-- ==== Defs.lean ====
def Pre_Kernel [hPre_tile_rows : Cert.Pre_tile_rows.Facts] (m : (ℓ : Loc Cert.Kernel.nD Cert.Kernel.τ Cert.Kernel.sig) → Buf (Elt Bits) ℓ) : Prop :=
  ∀ c : Dev Cert.Kernel.nD,
    (Cert.Pre_tile_rows.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_tile_rows : Cert.Pre_tile_rows.Facts] (m : (ℓ : Loc Cert.KernelIdeal.nD Cert.KernelIdeal.τ Cert.KernelIdeal.sig) → Buf (Elt Ideal) ℓ) : Prop :=
  ∀ c : Dev Cert.KernelIdeal.nD,
    (Cert.Pre_tile_rows.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tile_rows [hPre_tile_rows : Cert.Pre_tile_rows.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tile_rows.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_router [hPre_finite_router : Cert.Pre_finite_router.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_router.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6)) (m ((c.tc : Thread Cert.Kernel4Ideal.nD Cert.Kernel4Ideal.τ).loc Cert.Kernel4Ideal.main_arg7))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_router [hPre_finite_router : Cert.Pre_finite_router.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_router.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6)) (m ((c.tc : Thread Cert.Reference4Ideal.nD Cert.Reference4Ideal.τ).loc Cert.Reference4Ideal.main_arg7))) = (fun _ => 1#1)

def quiescent_Kernel [hKernel : Cert.Kernel.Facts] [hPre_tile_rows : Cert.Pre_tile_rows.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_tile_rows : Cert.Pre_tile_rows.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_tile_rows [hReferenceIdeal : Cert.ReferenceIdeal.Facts] [hPre_tile_rows : Cert.Pre_tile_rows.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tile_rows m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Kernel4Ideal_pre_finite_router [hKernel4Ideal : Cert.Kernel4Ideal.Facts] [hPre_finite_router : Cert.Pre_finite_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_router m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def quiescent_Reference4Ideal_pre_finite_router [hReference4Ideal : Cert.Reference4Ideal.Facts] [hPre_finite_router : Cert.Pre_finite_router.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_router m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_tile_rows : Cert.Pre_tile_rows.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  IdealRules.named_const.Statement Cert.Kernel2Ideal.κ "q_scale" .f32 0x3E38AA3B#32 (((8 * (Real.log 2))⁻¹ : ℝ) : EReal)

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v40_0)) (v1 : (c : Dev Cert.Kernel2Ideal.nD) → Buf (Elt Ideal) ((c.tc : Thread Cert.Kernel2Ideal.nD Cert.Kernel2Ideal.τ).loc Cert.Kernel2Ideal.main_v40_1)) (v2 : (c : Dev Cert.Kernel2Ideal.nD) → Buf (Elt Ideal) ((c.tc : Thread Cert.Kernel2Ideal.nD Cert.Kernel2Ideal.τ).loc Cert.Kernel2Ideal.main_v40_2)) (v3 : (c : Dev Cert.Kernel2Ideal.nD) → Buf (Elt Ideal) ((c.tc : Thread Cert.Kernel2Ideal.nD Cert.Kernel2Ideal.τ).loc Cert.Kernel2Ideal.main_v40_3)) (v4 : (c : Dev Cert.Kernel2Ideal.nD) → Buf (Elt Ideal) ((c.tc : Thread Cert.Kernel2Ideal.nD Cert.Kernel2Ideal.τ).loc Cert.Kernel2Ideal.main_v40_4)) (v5 : (c : Dev Cert.Kernel2Ideal.nD) → Buf (Elt Ideal) ((c.tc : Thread Cert.Kernel2Ideal.nD Cert.Kernel2Ideal.τ).loc Cert.Kernel2Ideal.main_v40_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_v40_1) = v1 c
          ∧ r.2.mem ((c.tc : Thread Cert.Kernel2Ideal.nD Cert.Kernel2Ideal.τ).loc Cert.Kernel2Ideal.main_v40_2) = v2 c
          ∧ r.2.mem ((c.tc : Thread Cert.Kernel2Ideal.nD Cert.Kernel2Ideal.τ).loc Cert.Kernel2Ideal.main_v40_3) = v3 c
          ∧ r.2.mem ((c.tc : Thread Cert.Kernel2Ideal.nD Cert.Kernel2Ideal.τ).loc Cert.Kernel2Ideal.main_v40_4) = v4 c
          ∧ r.2.mem ((c.tc : Thread Cert.Kernel2Ideal.nD Cert.Kernel2Ideal.τ).loc Cert.Kernel2Ideal.main_v40_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v63) = v0 c
          ∧ r.2.mem ((c.tc : Thread Cert.Reference2Ideal.nD Cert.Reference2Ideal.τ).loc Cert.Reference2Ideal.main_v84) = v1 c
          ∧ r.2.mem ((c.tc : Thread Cert.Reference2Ideal.nD Cert.Reference2Ideal.τ).loc Cert.Reference2Ideal.main_v89) = v2 c
          ∧ r.2.mem ((c.tc : Thread Cert.Reference2Ideal.nD Cert.Reference2Ideal.τ).loc Cert.Reference2Ideal.main_v113) = v3 c
          ∧ r.2.mem ((c.tc : Thread Cert.Reference2Ideal.nD Cert.Reference2Ideal.τ).loc Cert.Reference2Ideal.main_v132) = v4 c
          ∧ r.2.mem ((c.tc : Thread Cert.Reference2Ideal.nD Cert.Reference2Ideal.τ).loc Cert.Reference2Ideal.main_v135) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v10_0)) (v1 : (c : Dev Cert.Kernel3Ideal.nD) → Buf (Elt Ideal) ((c.tc : Thread Cert.Kernel3Ideal.nD Cert.Kernel3Ideal.τ).loc Cert.Kernel3Ideal.main_v10_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10_0) = v0 c
          ∧ r.2.mem ((c.tc : Thread Cert.Kernel3Ideal.nD Cert.Kernel3Ideal.τ).loc Cert.Kernel3Ideal.main_v10_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v48) = v0 c
          ∧ r.2.mem ((c.tc : Thread Cert.Reference3Ideal.nD Cert.Reference3Ideal.τ).loc Cert.Reference3Ideal.main_v49) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_finite_router [hKernel4Ideal : Cert.Kernel4Ideal.Facts] [hReference4Ideal : Cert.Reference4Ideal.Facts] [hPre_finite_router : Cert.Pre_finite_router.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_router m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)) →
    ∃ (v0 : (c : Dev Cert.Kernel4Ideal.nD) → Buf (Elt Ideal) ((c.tc : Thread Cert.Kernel4Ideal.nD Cert.Kernel4Ideal.τ).loc Cert.Kernel4Ideal.main_v10_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10_2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v60) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_tile_rows : Cert.Pre_tile_rows.Facts) (hPre_finite_router : Cert.Pre_finite_router.Facts),
    quiescent_Kernel (hKernel := hKernel) (hPre_tile_rows := hPre_tile_rows)
    ∧ quiescent_KernelIdeal (hKernelIdeal := hKernelIdeal) (hPre_tile_rows := hPre_tile_rows)
    ∧ quiescent_ReferenceIdeal (hReferenceIdeal := hReferenceIdeal)
    ∧ quiescent_ReferenceIdeal_pre_tile_rows (hReferenceIdeal := hReferenceIdeal) (hPre_tile_rows := hPre_tile_rows)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite_router (hKernel4Ideal := hKernel4Ideal) (hPre_finite_router := hPre_finite_router)
    ∧ quiescent_Reference4Ideal (hReference4Ideal := hReference4Ideal)
    ∧ quiescent_Reference4Ideal_pre_finite_router (hReference4Ideal := hReference4Ideal) (hPre_finite_router := hPre_finite_router)
    ∧ preserves_Kernel_KernelIdeal
    ∧ algebraic_KernelIdeal_ReferenceIdeal (hKernelIdeal := hKernelIdeal) (hReferenceIdeal := hReferenceIdeal) (hPre_tile_rows := hPre_tile_rows)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite_router (hKernel4Ideal := hKernel4Ideal) (hReference4Ideal := hReference4Ideal) (hPre_finite_router := hPre_finite_router)
-- ==== Pre_finite_router.lean ====
abbrev S16384x1024 : Shape := ⟨2, ![16384, 1024]⟩
abbrev S4x16384x128 : Shape := ⟨3, ![4, 16384, 128]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x16 : S_.BroadcastsInDim S1024x16 (![] : Fin 0 → Fin S1024x16.rank)
  reducesTo_S1024x16_S_d0_1 : S1024x16.ReducesTo [0, 1] S_

variable [Facts]

def fn {F : FTy → Type} [FloatOps F] (main_arg0 : FVec F S16384x1024 .f32) (main_arg1 : FVec F S4x16384x128 .f32) (main_arg2 : FVec F S4x16384x128 .f32) (main_arg3 : FVec F S512 .f32) (main_arg4 : FVec F S512 .f32) (main_arg5 : FVec F S1024x1024 .f32) (main_arg6 : FVec F S1024 .f32) (main_arg7 : FVec F S1024x16 .f32) : IVec S_ 1 :=
  let main_v0 : FVec F S1024 .f32 := Host.absf main_arg6
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x16 .f32 := Host.absf main_arg7
  let main_cst_0 : FVec F S_ .f32 := constant S_ .f32 0x7F800000#32
  let main_v5 : FVec F S1024x16 .f32 := broadcastInDim S1024x16 ![] bcast_S_S1024x16 main_cst_0
  let main_v6 : IVec S1024x16 1 := cmpf .olt main_v4 main_v5
  let main_c_1 : IVec S_ 1 := constantI S_ 1 1#1
  let main_v7 : IVec S_ 1 := (fun x v => Host.reduce IntOp.andi x v reducesTo_S1024x16_S_d0_1 h_S_) main_v6 main_c_1
  let main_v8 : IVec S_ 1 := andi main_v3 main_v7
  main_v8
-- ==== Pre_tile_rows.lean ====
abbrev S16x1x2048 : Shape := ⟨3, ![16, 1, 2048]⟩
abbrev S131072x128 : Shape := ⟨2, ![131072, 128]⟩
abbrev S16x1024x2048 : Shape := ⟨3, ![16, 1024, 2048]⟩
abbrev S16x2048x1024 : Shape := ⟨3, ![16, 2048, 1024]⟩
abbrev S_ : Shape := ⟨0, ![]⟩

class Facts : Prop where
  bcast_S_S16x1x2048 : S_.BroadcastsInDim S16x1x2048 (![] : Fin 0 → Fin S16x1x2048.rank)
  reducesTo_S16x1x2048_S_d0_1_2 : S16x1x2048.ReducesTo [0, 1, 2] S_
  h_S_ : 0 < S_.numel

variable [Facts]

def fn {F : FTy → Type} [FloatOps F] (main_arg0 : IVec S16x1x2048 32) (main_arg1 : FVec F S131072x128 .f32) (main_arg2 : FVec F S16x1024x2048 .f32) (main_arg3 : FVec F S16x1024x2048 .f32) (main_arg4 : FVec F S16x2048x1024 .f32) : IVec S_ 1 :=
  let main_c : IVec S_ 32 := constantI S_ 32 0#32
  let main_v0 : IVec S16x1x2048 32 := broadcastInDim S16x1x2048 ![] bcast_S_S16x1x2048 main_c
  let main_v1 : IVec S16x1x2048 1 := cmpi .sge main_arg0 main_v0
  let main_c_0 : IVec S_ 32 := constantI S_ 32 131064#32
  let main_v2 : IVec S16x1x2048 32 := broadcastInDim S16x1x2048 ![] bcast_S_S16x1x2048 main_c_0
  let main_v3 : IVec S16x1x2048 1 := cmpi .sle main_arg0 main_v2
  let main_v4 : IVec S16x1x2048 1 := andi main_v1 main_v3
  let main_c_1 : IVec S_ 32 := constantI S_ 32 8#32
  let main_v5 : IVec S16x1x2048 32 := broadcastInDim S16x1x2048 ![] bcast_S_S16x1x2048 main_c_1
  let main_v6 : IVec S16x1x2048 32 := Host.remsi main_arg0 main_v5
  let main_c_2 : IVec S_ 32 := constantI S_ 32 0#32
  let main_v7 : IVec S16x1x2048 32 := broadcastInDim S16x1x2048 ![] bcast_S_S16x1x2048 main_c_2
  let main_v8 : IVec S16x1x2048 1 := cmpi .eq main_v6 main_v7
  let main_v9 : IVec S16x1x2048 1 := andi main_v4 main_v8
  let main_c_3 : IVec S_ 1 := constantI S_ 1 1#1
  let main_v10 : IVec S_ 1 := (fun x v => Host.reduce IntOp.andi x v reducesTo_S16x1x2048_S_d0_1_2 h_S_) main_v9 main_c_3
  main_v10
-- ==== Kernel.lean ====
abbrev S16x1x2048 : Shape := ⟨3, ![16, 1, 2048]⟩
abbrev S131072x128 : Shape := ⟨2, ![131072, 128]⟩
abbrev S16x1024x2048 : Shape := ⟨3, ![16, 1024, 2048]⟩
abbrev S16x2048x1024 : Shape := ⟨3, ![16, 2048, 1024]⟩
abbrev S1x1x2048 : Shape := ⟨3, ![1, 1, 2048]⟩
abbrev S1x1024x512 : Shape := ⟨3, ![1, 1024, 512]⟩
abbrev S1x512x1024 : Shape := ⟨3, ![1, 512, 1024]⟩
abbrev S1x2048x1024 : Shape := ⟨3, ![1, 2048, 1024]⟩
abbrev S2x16384x128 : Shape := ⟨3, ![2, 16384, 128]⟩
abbrev S1024x1024 : Shape := ⟨2, ![1024, 1024]⟩
abbrev S2 : Shape := ⟨1, ![2]⟩
abbrev S1x1x1 : Shape := ⟨3, ![1, 1, 1]⟩
abbrev S1 : Shape := ⟨1, ![1]⟩
abbrev S_ : Shape := ⟨0, ![]⟩
abbrev S1x8x128 : Shape := ⟨3, ![1, 8, 128]⟩
abbrev S8x128 : Shape := ⟨2, ![8, 128]⟩
abbrev S1x16384x128 : Shape := ⟨3, ![1, 16384, 128]⟩
abbrev S16384x128 : Shape := ⟨2, ![16384, 128]⟩
abbrev S1024x512 : Shape := ⟨2, ![1024, 512]⟩
abbrev S512x1024 : Shape := ⟨2, ![512, 1024]⟩
abbrev S1x1024x128 : Shape := ⟨3, ![1, 1024, 128]⟩
abbrev S1024x128 : Shape := ⟨2, ![1024, 128]⟩
abbrev S1024x256 : Shape := ⟨2, ![1024, 256]⟩
abbrev S1x1024x1024 : Shape := ⟨3, ![1, 1024, 1024]⟩

abbrev nBuf : Space → Nat
  | .hbm => 6
  | .vmem => 11
  | .smem => 4
  | _ => 0

abbrev bufTy : (tb : Table) → Fin (tcTables nBuf tb) → BufTy
  | .hbm, ⟨0, _⟩ => ⟨S16x1x2048, .i32⟩
  | .hbm, ⟨1, _⟩ => ⟨S131072x128, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S16x2048x1024, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1x512x1024, .f32⟩
  | .local _ .vmem, ⟨5, _⟩ => ⟨S1x512x1024, .f32⟩
  | .local _ .vmem, ⟨6, _⟩ => ⟨S1x2048x1024, .f32⟩
  | .local _ .vmem, ⟨7, _⟩ => ⟨S1x2048x1024, .f32⟩
  | .local _ .vmem, ⟨8, _⟩ => ⟨S2x16384x128, .f32⟩
  | .local _ .vmem, ⟨9, _⟩ => ⟨S1024x1024, .bf16⟩
  | .local _ .vmem, ⟨10, _⟩ => ⟨S1024x1024, .bf16⟩
  | .local _ .smem, ⟨0, _⟩ => ⟨S1x1x2048, .i32⟩
  | .local _ .smem, ⟨1, _⟩ => ⟨S1x1x2048, .i32⟩
  | .local _ .smem, ⟨2, _⟩ => ⟨S1x1x2048, .i32⟩
  | .local _ .smem, ⟨3, _⟩ => ⟨S1x1x2048, .i32⟩
  | _, _ => ⟨S16x1x2048, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_stg0_0 : Ref sig .tc := ⟨.smem, 0, rfl⟩
abbrev cc0_stg0_1 : Ref sig .tc := ⟨.smem, 1, rfl⟩
abbrev cc0_stg1_0 : Ref sig .tc := ⟨.smem, 2, rfl⟩
abbrev cc0_stg1_1 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![16, 4], ![false, false]⟩

def k0_cond1 (i : grid0.Coords) : BitVec 1 :=
  let arg0 : BitVec 32 := BitVec.ofNat 32 (i 0).val
  let c0_i32_3 : BitVec 32 := 0#32
  let v10 : BitVec 1 := Scalar.cmpi .eq arg0 c0_i32_3
  let arg1 : BitVec 32 := BitVec.ofNat 32 (i 1).val
  let c0_i32_4 : BitVec 32 := 0#32
  let v11 : BitVec 1 := Scalar.cmpi .eq arg1 c0_i32_4
  let v12 : BitVec 1 := Scalar.andi v10 v11
  let v13 : BitVec 32 := Scalar.extui v12
  let c0_i32_5 : BitVec 32 := 0#32
  let v14 : BitVec 1 := Scalar.cmpi .ne v13 c0_i32_5
  v14

@[reducible] def k0_t1_loop : Scf.Loop 32 :=
  let c0_i32_11 : BitVec 32 := 0#32
  let c2048_i32 : BitVec 32 := 2048#32
  let v26 : BitVec 32 := Scalar.addi c0_i32_11 c2048_i32
  let c1_i32_12 : BitVec 32 := 1#32
  ⟨c0_i32_11, v26, c1_i32_12⟩
def k0_off1 (k0_t1 : Fin k0_t1_loop.trips) : Fin 3 → Nat :=
  let c0 : Index := 0#32
  let c0_14 : Index := 0#32
  let c0_i32_11 : BitVec 32 := 0#32
  let c1_i32_12 : BitVec 32 := 1#32
  let arg13 : BitVec 32 := Scf.iv c0_i32_11 c1_i32_12 k0_t1
  let v27 : Index := Scalar.indexCast arg13
  ![0, 0, v27.toNat]
def k0_mult1 (v28 : BitVec 32) : BitVec 32 :=
  v28

def k0_mult2 (k0_t1 : Fin k0_t1_loop.trips) : BitVec 32 :=
  let c0_i32_11 : BitVec 32 := 0#32
  let c1_i32_12 : BitVec 32 := 1#32
  let arg13 : BitVec 32 := Scf.iv c0_i32_11 c1_i32_12 k0_t1
  let c8_i32 : BitVec 32 := 8#32
  let v30 : BitVec 32 := Scalar.muli arg13 c8_i32
  v30
def k0_off2 (k0_t1 : Fin k0_t1_loop.trips) : Fin 3 → Nat :=
  let c0_i32_15 : BitVec 32 := 0#32
  let c0_i32_11 : BitVec 32 := 0#32
  let c1_i32_12 : BitVec 32 := 1#32
  let arg13 : BitVec 32 := Scf.iv c0_i32_11 c1_i32_12 k0_t1
  let c8_i32 : BitVec 32 := 8#32
  let v30 : BitVec 32 := Scalar.muli arg13 c8_i32
  let v31 : BitVec 32 := v30
  let c0_i32_17 : BitVec 32 := 0#32
  ![0, v31.toNat, 0]
def k0_off3 (v28 : BitVec 32) : Fin 2 → Nat :=
  let v29 : BitVec 32 := v28
  let c0_i32_18 : BitVec 32 := 0#32
  ![v29.toNat, 0]

def k0_chk1 (i : grid0.Coords) (v28 : BitVec 32) : Prop :=
  (∀ (k0_h1 : k0_cond1 i = 1#1), 8 ∣ (k0_mult1 v28).toNat) ∧
  (∀ (k0_h1 : k0_cond1 i = 1#1), ∀ a, (k0_off3 v28) a + S8x128.size a ≤ S131072x128.size a)
theorem k0_mult1_dvd : ∀ (i : grid0.Coords) (v28 : BitVec 32) (k0_hw1 : k0_chk1 i v28), ∀ (k0_h1 : k0_cond1 i = 1#1), 8 ∣ (k0_mult1 v28).toNat := fun i v28 k0_hw1 k0_h1 => k0_hw1.1 k0_h1
theorem k0_off3_inb : ∀ (i : grid0.Coords) (v28 : BitVec 32) (k0_hw1 : k0_chk1 i v28), ∀ (k0_h1 : k0_cond1 i = 1#1), ∀ a, (k0_off3 v28) a + S8x128.size a ≤ S131072x128.size a := fun i v28 k0_hw1 k0_h1 => k0_hw1.2 k0_h1

def k0_cond2 (i : grid0.Coords) : BitVec 1 :=
  let arg1 : BitVec 32 := BitVec.ofNat 32 (i 1).val
  let c0_i32_6 : BitVec 32 := 0#32
  let v15 : BitVec 1 := Scalar.cmpi .eq arg1 c0_i32_6
  let v16 : BitVec 32 := Scalar.extui v15
  let c0_i32_7 : BitVec 32 := 0#32
  let v17 : BitVec 1 := Scalar.cmpi .ne v16 c0_i32_7
  v17

def k0_off4 (i : grid0.Coords) : Fin 1 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  ![v9.toNat]
def k0_off5 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let c0_i32_11 : BitVec 32 := 0#32
  let c0_i32_12 : BitVec 32 := 0#32
  ![v9.toNat, 0, 0]
def k0_off6 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v40 : Index := Scalar.indexCast v9
  let c0_23 : Index := 0#32
  let c0_24 : Index := 0#32
  ![v40.toNat, 0, 0]
def k0_off7 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v43 : Index := Scalar.indexCast v9
  let c1 : Index := 1#32
  let c0_25 : Index := 0#32
  ![v43.toNat, 1, 0]
def k0_off8 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v46 : Index := Scalar.indexCast v9
  let c2 : Index := 2#32
  let c0_26 : Index := 0#32
  ![v46.toNat, 2, 0]
def k0_off9 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v49 : Index := Scalar.indexCast v9
  let c3 : Index := 3#32
  let c0_27 : Index := 0#32
  ![v49.toNat, 3, 0]
def k0_off10 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v52 : Index := Scalar.indexCast v9
  let c4 : Index := 4#32
  let c0_28 : Index := 0#32
  ![v52.toNat, 4, 0]
def k0_off11 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v55 : Index := Scalar.indexCast v9
  let c5 : Index := 5#32
  let c0_29 : Index := 0#32
  ![v55.toNat, 5, 0]
def k0_off12 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v58 : Index := Scalar.indexCast v9
  let c6 : Index := 6#32
  let c0_30 : Index := 0#32
  ![v58.toNat, 6, 0]
def k0_off13 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v61 : Index := Scalar.indexCast v9
  let c7 : Index := 7#32
  let c0_31 : Index := 0#32
  ![v61.toNat, 7, 0]
def k0_off14 (i : grid0.Coords) : Fin 3 → Nat :=
  let c0_47 : Index := 0#32
  let c0_48 : Index := 0#32
  let arg1 : BitVec 32 := BitVec.ofNat 32 (i 1).val
  let c2_i32_43 : BitVec 32 := 2#32
  let v91 : BitVec 32 := Scalar.muli arg1 c2_i32_43
  let c0_i32_44 : BitVec 32 := 0#32
  let v92 : BitVec 32 := Scalar.addi v91 c0_i32_44
  let c256_i32 : BitVec 32 := 256#32
  let v93 : BitVec 32 := Scalar.muli v92 c256_i32
  let c0_i32_45 : BitVec 32 := 0#32
  let v94 : BitVec 32 := Scalar.addi v93 c0_i32_45
  let v96 : Index := Scalar.indexCast v94
  ![0, 0, v96.toNat]
def k0_mult3 (v97 : BitVec 32) : BitVec 32 :=
  v97

def k0_mult4 (i : grid0.Coords) : BitVec 32 :=
  let arg1 : BitVec 32 := BitVec.ofNat 32 (i 1).val
  let c2_i32_43 : BitVec 32 := 2#32
  let v91 : BitVec 32 := Scalar.muli arg1 c2_i32_43
  let c0_i32_44 : BitVec 32 := 0#32
  let v92 : BitVec 32 := Scalar.addi v91 c0_i32_44
  let c256_i32 : BitVec 32 := 256#32
  let v93 : BitVec 32 := Scalar.muli v92 c256_i32
  let c0_i32_45 : BitVec 32 := 0#32
  let v94 : BitVec 32 := Scalar.addi v93 c0_i32_45
  let c8_i32 : BitVec 32 := 8#32
  let v99 : BitVec 32 := Scalar.muli v94 c8_i32
  v99
def k0_off15 (i : grid0.Coords) : Fin 1 → Nat :=
  let c1_i32_46 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v95 : BitVec 32 := Scalar.subi c1_i32_46 v9
  ![v95.toNat]
def k0_off16 (i : grid0.Coords) : Fin 3 → Nat :=
  let c1_i32_46 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v95 : BitVec 32 := Scalar.subi c1_i32_46 v9
  let arg1 : BitVec 32 := BitVec.ofNat 32 (i 1).val
  let c2_i32_43 : BitVec 32 := 2#32
  let v91 : BitVec 32 := Scalar.muli arg1 c2_i32_43
  let c0_i32_44 : BitVec 32 := 0#32
  let v92 : BitVec 32 := Scalar.addi v91 c0_i32_44
  let c256_i32 : BitVec 32 := 256#32
  let v93 : BitVec 32 := Scalar.muli v92 c256_i32
  let c0_i32_45 : BitVec 32 := 0#32
  let v94 : BitVec 32 := Scalar.addi v93 c0_i32_45
  let c8_i32 : BitVec 32 := 8#32
  let v99 : BitVec 32 := Scalar.muli v94 c8_i32
  let v100 : BitVec 32 := v99
  let c0_i32_49 : BitVec 32 := 0#32
  ![v95.toNat, v100.toNat, 0]
def k0_off17 (v97 : BitVec 32) : Fin 2 → Nat :=
  let v98 : BitVec 32 := v97
  let c0_i32_50 : BitVec 32 := 0#32
  ![v98.toNat, 0]

def k0_chk2 (i : grid0.Coords) (v97 : BitVec 32) : Prop :=
  (∀ (k0_h2 : k0_cond2 i = 1#1), 8 ∣ (k0_mult3 v97).toNat) ∧
  (∀ (k0_h2 : k0_cond2 i = 1#1), ∀ a, (k0_off17 v97) a + S8x128.size a ≤ S131072x128.size a)
theorem k0_mult3_dvd : ∀ (i : grid0.Coords) (v97 : BitVec 32) (k0_hw2 : k0_chk2 i v97), ∀ (k0_h2 : k0_cond2 i = 1#1), 8 ∣ (k0_mult3 v97).toNat := fun i v97 k0_hw2 k0_h2 => k0_hw2.1 k0_h2
theorem k0_off17_inb : ∀ (i : grid0.Coords) (v97 : BitVec 32) (k0_hw2 : k0_chk2 i v97), ∀ (k0_h2 : k0_cond2 i = 1#1), ∀ a, (k0_off17 v97) a + S8x128.size a ≤ S131072x128.size a := fun i v97 k0_hw2 k0_h2 => k0_hw2.2 k0_h2

def k0_off18 (i : grid0.Coords) : Fin 3 → Nat :=
  let c0_56 : Index := 0#32
  let c0_57 : Index := 0#32
  let arg1 : BitVec 32 := BitVec.ofNat 32 (i 1).val
  let c2_i32_51 : BitVec 32 := 2#32
  let v106 : BitVec 32 := Scalar.muli arg1 c2_i32_51
  let c0_i32_52 : BitVec 32 := 0#32
  let v107 : BitVec 32 := Scalar.addi v106 c0_i32_52
  let c256_i32_53 : BitVec 32 := 256#32
  let v108 : BitVec 32 := Scalar.muli v107 c256_i32_53
  let c1_i32_54 : BitVec 32 := 1#32
  let v109 : BitVec 32 := Scalar.addi v108 c1_i32_54
  let v111 : Index := Scalar.indexCast v109
  ![0, 0, v111.toNat]
def k0_mult5 (v112 : BitVec 32) : BitVec 32 :=
  v112

def k0_mult6 (i : grid0.Coords) : BitVec 32 :=
  let arg1 : BitVec 32 := BitVec.ofNat 32 (i 1).val
  let c2_i32_51 : BitVec 32 := 2#32
  let v106 : BitVec 32 := Scalar.muli arg1 c2_i32_51
  let c0_i32_52 : BitVec 32 := 0#32
  let v107 : BitVec 32 := Scalar.addi v106 c0_i32_52
  let c256_i32_53 : BitVec 32 := 256#32
  let v108 : BitVec 32 := Scalar.muli v107 c256_i32_53
  let c1_i32_54 : BitVec 32 := 1#32
  let v109 : BitVec 32 := Scalar.addi v108 c1_i32_54
  let c8_i32_58 : BitVec 32 := 8#32
  let v114 : BitVec 32 := Scalar.muli v109 c8_i32_58
  v114
def k0_off19 (i : grid0.Coords) : Fin 1 → Nat :=
  let c1_i32_55 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v110 : BitVec 32 := Scalar.subi c1_i32_55 v9
  ![v110.toNat]
def k0_off20 (i : grid0.Coords) : Fin 3 → Nat :=
  let c1_i32_55 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v110 : BitVec 32 := Scalar.subi c1_i32_55 v9
  let arg1 : BitVec 32 := BitVec.ofNat 32 (i 1).val
  let c2_i32_51 : BitVec 32 := 2#32
  let v106 : BitVec 32 := Scalar.muli arg1 c2_i32_51
  let c0_i32_52 : BitVec 32 := 0#32
  let v107 : BitVec 32 := Scalar.addi v106 c0_i32_52
  let c256_i32_53 : BitVec 32 := 256#32
  let v108 : BitVec 32 := Scalar.muli v107 c256_i32_53
  let c1_i32_54 : BitVec 32 := 1#32
  let v109 : BitVec 32 := Scalar.addi v108 c1_i32_54
  let c8_i32_58 : BitVec 32 := 8#32
  let v114 : BitVec 32 := Scalar.muli v109 c8_i32_58
  let v115 : BitVec 32 := v114
  let c0_i32_59 : BitVec 32 := 0#32
  ![v110.toNat, v115.toNat, 0]
def k0_off21 (v112 : BitVec 32) : Fin 2 → Nat :=
  let v113 : BitVec 32 := v112
  let c0_i32_60 : BitVec 32 := 0#32
  ![v113.toNat, 0]

def k0_chk3 (i : grid0.Coords) (v112 : BitVec 32) : Prop :=
  (∀ (k0_h2 : k0_cond2 i = 1#1), 8 ∣ (k0_mult5 v112).toNat) ∧
  (∀ (k0_h2 : k0_cond2 i = 1#1), ∀ a, (k0_off21 v112) a + S8x128.size a ≤ S131072x128.size a)
theorem k0_mult5_dvd : ∀ (i : grid0.Coords) (v112 : BitVec 32) (k0_hw3 : k0_chk3 i v112), ∀ (k0_h2 : k0_cond2 i = 1#1), 8 ∣ (k0_mult5 v112).toNat := fun i v112 k0_hw3 k0_h2 => k0_hw3.1 k0_h2
theorem k0_off21_inb : ∀ (i : grid0.Coords) (v112 : BitVec 32) (k0_hw3 : k0_chk3 i v112), ∀ (k0_h2 : k0_cond2 i = 1#1), ∀ a, (k0_off21 v112) a + S8x128.size a ≤ S131072x128.size a := fun i v112 k0_hw3 k0_h2 => k0_hw3.2 k0_h2

def k0_off22 (i : grid0.Coords) : Fin 3 → Nat :=
  let c0_66 : Index := 0#32
  let c0_67 : Index := 0#32
  let arg1 : BitVec 32 := BitVec.ofNat 32 (i 1).val
  let c2_i32_61 : BitVec 32 := 2#32
  let v121 : BitVec 32 := Scalar.muli arg1 c2_i32_61
  let c0_i32_62 : BitVec 32 := 0#32
  let v122 : BitVec 32 := Scalar.addi v121 c0_i32_62
  let c256_i32_63 : BitVec 32 := 256#32
  let v123 : BitVec 32 := Scalar.muli v122 c256_i32_63
  let c2_i32_64 : BitVec 32 := 2#32
  let v124 : BitVec 32 := Scalar.addi v123 c2_i32_64
  let v126 : Index := Scalar.indexCast v124
  ![0, 0, v126.toNat]
def k0_mult7 (v127 : BitVec 32) : BitVec 32 :=
  v127

def k0_mult8 (i : grid0.Coords) : BitVec 32 :=
  let arg1 : BitVec 32 := BitVec.ofNat 32 (i 1).val
  let c2_i32_61 : BitVec 32 := 2#32
  let v121 : BitVec 32 := Scalar.muli arg1 c2_i32_61
  let c0_i32_62 : BitVec 32 := 0#32
  let v122 : BitVec 32 := Scalar.addi v121 c0_i32_62
  let c256_i32_63 : BitVec 32 := 256#32
  let v123 : BitVec 32 := Scalar.muli v122 c256_i32_63
  let c2_i32_64 : BitVec 32 := 2#32
  let v124 : BitVec 32 := Scalar.addi v123 c2_i32_64
  let c8_i32_68 : BitVec 32 := 8#32
  let v129 : BitVec 32 := Scalar.muli v124 c8_i32_68
  v129
def k0_off23 (i : grid0.Coords) : Fin 1 → Nat :=
  let c1_i32_65 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v125 : BitVec 32 := Scalar.subi c1_i32_65 v9
  ![v125.toNat]
def k0_off24 (i : grid0.Coords) : Fin 3 → Nat :=
  let c1_i32_65 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v125 : BitVec 32 := Scalar.subi c1_i32_65 v9
  let arg1 : BitVec 32 := BitVec.ofNat 32 (i 1).val
  let c2_i32_61 : BitVec 32 := 2#32
  let v121 : BitVec 32 := Scalar.muli arg1 c2_i32_61
  let c0_i32_62 : BitVec 32 := 0#32
  let v122 : BitVec 32 := Scalar.addi v121 c0_i32_62
  let c256_i32_63 : BitVec 32 := 256#32
  let v123 : BitVec 32 := Scalar.muli v122 c256_i32_63
  let c2_i32_64 : BitVec 32 := 2#32
  let v124 : BitVec 32 := Scalar.addi v123 c2_i32_64
  let c8_i32_68 : BitVec 32 := 8#32
  let v129 : BitVec 32 := Scalar.muli v124 c8_i32_68
  let v130 : BitVec 32 := v129
  let c0_i32_69 : BitVec 32 := 0#32
  ![v125.toNat, v130.toNat, 0]
def k0_off25 (v127 : BitVec 32) : Fin 2 → Nat :=
  let v128 : BitVec 32 := v127
  let c0_i32_70 : BitVec 32 := 0#32
  ![v128.toNat, 0]

def k0_chk4 (i : grid0.Coords) (v127 : BitVec 32) : Prop :=
  (∀ (k0_h2 : k0_cond2 i = 1#1), 8 ∣ (k0_mult7 v127).toNat) ∧
  (∀ (k0_h2 : k0_cond2 i = 1#1), ∀ a, (k0_off25 v127) a + S8x128.size a ≤ S131072x128.size a)
theorem k0_mult7_dvd : ∀ (i : grid0.Coords) (v127 : BitVec 32) (k0_hw4 : k0_chk4 i v127), ∀ (k0_h2 : k0_cond2 i = 1#1), 8 ∣ (k0_mult7 v127).toNat := fun i v127 k0_hw4 k0_h2 => k0_hw4.1 k0_h2
theorem k0_off25_inb : ∀ (i : grid0.Coords) (v127 : BitVec 32) (k0_hw4 : k0_chk4 i v127), ∀ (k0_h2 : k0_cond2 i = 1#1), ∀ a, (k0_off25 v127) a + S8x128.size a ≤ S131072x128.size a := fun i v127 k0_hw4 k0_h2 => k0_hw4.2 k0_h2

def k0_off26 (i : grid0.Coords) : Fin 3 → Nat :=
  let c0_76 : Index := 0#32
  let c0_77 : Index := 0#32
  let arg1 : BitVec 32 := BitVec.ofNat 32 (i 1).val
  let c2_i32_71 : BitVec 32 := 2#32
  let v136 : BitVec 32 := Scalar.muli arg1 c2_i32_71
  let c0_i32_72 : BitVec 32 := 0#32
  let v137 : BitVec 32 := Scalar.addi v136 c0_i32_72
  let c256_i32_73 : BitVec 32 := 256#32
  let v138 : BitVec 32 := Scalar.muli v137 c256_i32_73
  let c3_i32_74 : BitVec 32 := 3#32
  let v139 : BitVec 32 := Scalar.addi v138 c3_i32_74
  let v141 : Index := Scalar.indexCast v139
  ![0, 0, v141.toNat]
def k0_mult9 (v142 : BitVec 32) : BitVec 32 :=
  v142

def k0_mult10 (i : grid0.Coords) : BitVec 32 :=
  let arg1 : BitVec 32 := BitVec.ofNat 32 (i 1).val
  let c2_i32_71 : BitVec 32 := 2#32
  let v136 : BitVec 32 := Scalar.muli arg1 c2_i32_71
  let c0_i32_72 : BitVec 32 := 0#32
  let v137 : BitVec 32 := Scalar.addi v136 c0_i32_72
  let c256_i32_73 : BitVec 32 := 256#32
  let v138 : BitVec 32 := Scalar.muli v137 c256_i32_73
  let c3_i32_74 : BitVec 32 := 3#32
  let v139 : BitVec 32 := Scalar.addi v138 c3_i32_74
  let c8_i32_78 : BitVec 32 := 8#32
  let v144 : BitVec 32 := Scalar.muli v139 c8_i32_78
  v144
def k0_off27 (i : grid0.Coords) : Fin 1 → Nat :=
  let c1_i32_75 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v140 : BitVec 32 := Scalar.subi c1_i32_75 v9
  ![v140.toNat]
def k0_off28 (i : grid0.Coords) : Fin 3 → Nat :=
  let c1_i32_75 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v140 : BitVec 32 := Scalar.subi c1_i32_75 v9
  let arg1 : BitVec 32 := BitVec.ofNat 32 (i 1).val
  let c2_i32_71 : BitVec 32 := 2#32
  let v136 : BitVec 32 := Scalar.muli arg1 c2_i32_71
  let c0_i32_72 : BitVec 32 := 0#32
  let v137 : BitVec 32 := Scalar.addi v136 c0_i32_72
  let c256_i32_73 : BitVec 32 := 256#32
  let v138 : BitVec 32 := Scalar.muli v137 c256_i32_73
  let c3_i32_74 : BitVec 32 := 3#32
  let v139 : BitVec 32 := Scalar.addi v138 c3_i32_74
  let c8_i32_78 : BitVec 32 := 8#32
  let v144 : BitVec 32 := Scalar.muli v139 c8_i32_78
  let v145 : BitVec 32 := v144
  let c0_i32_79 : BitVec 32 := 0#32
  ![v140.toNat, v145.toNat, 0]
def k0_off29 (v142 : BitVec 32) : Fin 2 → Nat :=
  let v143 : BitVec 32 := v142
  let c0_i32_80 : BitVec 32 := 0#32
  ![v143.toNat, 0]

def k0_chk5 (i : grid0.Coords) (v142 : BitVec 32) : Prop :=
  (∀ (k0_h2 : k0_cond2 i = 1#1), 8 ∣ (k0_mult9 v142).toNat) ∧
  (∀ (k0_h2 : k0_cond2 i = 1#1), ∀ a, (k0_off29 v142) a + S8x128.size a ≤ S131072x128.size a)
theorem k0_mult9_dvd : ∀ (i : grid0.Coords) (v142 : BitVec 32) (k0_hw5 : k0_chk5 i v142), ∀ (k0_h2 : k0_cond2 i = 1#1), 8 ∣ (k0_mult9 v142).toNat := fun i v142 k0_hw5 k0_h2 => k0_hw5.1 k0_h2
theorem k0_off29_inb : ∀ (i : grid0.Coords) (v142 : BitVec 32) (k0_hw5 : k0_chk5 i v142), ∀ (k0_h2 : k0_cond2 i = 1#1), ∀ a, (k0_off29 v142) a + S8x128.size a ≤ S131072x128.size a := fun i v142 k0_hw5 k0_h2 => k0_hw5.2 k0_h2

def k0_off30 (i : grid0.Coords) : Fin 3 → Nat :=
  let c0_85 : Index := 0#32
  let c0_86 : Index := 0#32
  let arg1 : BitVec 32 := BitVec.ofNat 32 (i 1).val
  let c2_i32_81 : BitVec 32 := 2#32
  let v151 : BitVec 32 := Scalar.muli arg1 c2_i32_81
  let c0_i32_82 : BitVec 32 := 0#32
  let v152 : BitVec 32 := Scalar.addi v151 c0_i32_82
  let c256_i32_83 : BitVec 32 := 256#32
  let v153 : BitVec 32 := Scalar.muli v152 c256_i32_83
  let c4_i32 : BitVec 32 := 4#32
  let v154 : BitVec 32 := Scalar.addi v153 c4_i32
  let v156 : Index := Scalar.indexCast v154
  ![0, 0, v156.toNat]
def k0_mult11 (v157 : BitVec 32) : BitVec 32 :=
  v157

def k0_mult12 (i : grid0.Coords) : BitVec 32 :=
  let arg1 : BitVec 32 := BitVec.ofNat 32 (i 1).val
  let c2_i32_81 : BitVec 32 := 2#32
  let v151 : BitVec 32 := Scalar.muli arg1 c2_i32_81
  let c0_i32_82 : BitVec 32 := 0#32
  let v152 : BitVec 32 := Scalar.addi v151 c0_i32_82
  let c256_i32_83 : BitVec 32 := 256#32
  let v153 : BitVec 32 := Scalar.muli v152 c256_i32_83
  let c4_i32 : BitVec 32 := 4#32
  let v154 : BitVec 32 := Scalar.addi v153 c4_i32
  let c8_i32_87 : BitVec 32 := 8#32
  let v159 : BitVec 32 := Scalar.muli v154 c8_i32_87
  v159
def k0_off31 (i : grid0.Coords) : Fin 1 → Nat :=
  let c1_i32_84 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v155 : BitVec 32 := Scalar.subi c1_i32_84 v9
  ![v155.toNat]
def k0_off32 (i : grid0.Coords) : Fin 3 → Nat :=
  let c1_i32_84 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v155 : BitVec 32 := Scalar.subi c1_i32_84 v9
  let arg1 : BitVec 32 := BitVec.ofNat 32 (i 1).val
  let c2_i32_81 : BitVec 32 := 2#32
  let v151 : BitVec 32 := Scalar.muli arg1 c2_i32_81
  let c0_i32_82 : BitVec 32 := 0#32
  let v152 : BitVec 32 := Scalar.addi v151 c0_i32_82
  let c256_i32_83 : BitVec 32 := 256#32
  let v153 : BitVec 32 := Scalar.muli v152 c256_i32_83
  let c4_i32 : BitVec 32 := 4#32
  let v154 : BitVec 32 := Scalar.addi v153 c4_i32
  let c8_i32_87 : BitVec 32 := 8#32
  let v159 : BitVec 32 := Scalar.muli v154 c8_i32_87
  let v160 : BitVec 32 := v159
  let c0_i32_88 : BitVec 32 := 0#32
  ![v155.toNat, v160.toNat, 0]
def k0_off33 (v157 : BitVec 32) : Fin 2 → Nat :=
  let v158 : BitVec 32 := v157
  let c0_i32_89 : BitVec 32 := 0#32
  ![v158.toNat, 0]

def k0_chk6 (i : grid0.Coords) (v157 : BitVec 32) : Prop :=
  (∀ (k0_h2 : k0_cond2 i = 1#1), 8 ∣ (k0_mult11 v157).toNat) ∧
  (∀ (k0_h2 : k0_cond2 i = 1#1), ∀ a, (k0_off33 v157) a + S8x128.size a ≤ S131072x128.size a)
theorem k0_mult11_dvd : ∀ (i : grid0.Coords) (v157 : BitVec 32) (k0_hw6 : k0_chk6 i v157), ∀ (k0_h2 : k0_cond2 i = 1#1), 8 ∣ (k0_mult11 v157).toNat := fun i v157 k0_hw6 k0_h2 => k0_hw6.1 k0_h2
theorem k0_off33_inb : ∀ (i : grid0.Coords) (v157 : BitVec 32) (k0_hw6 : k0_chk6 i v157), ∀ (k0_h2 : k0_cond2 i = 1#1), ∀ a, (k0_off33 v157) a + S8x128.size a ≤ S131072x128.size a := fun i v157 k0_hw6 k0_h2 => k0_hw6.2 k0_h2

def k0_off34 (i : grid0.Coords) : Fin 3 → Nat :=
  let c0_94 : Index := 0#32
  let c0_95 : Index := 0#32
  let arg1 : BitVec 32 := BitVec.ofNat 32 (i 1).val
  let c2_i32_90 : BitVec 32 := 2#32
  let v166 : BitVec 32 := Scalar.muli arg1 c2_i32_90
  let c0_i32_91 : BitVec 32 := 0#32
  let v167 : BitVec 32 := Scalar.addi v166 c0_i32_91
  let c256_i32_92 : BitVec 32 := 256#32
  let v168 : BitVec 32 := Scalar.muli v167 c256_i32_92
  let c5_i32 : BitVec 32 := 5#32
  let v169 : BitVec 32 := Scalar.addi v168 c5_i32
  let v171 : Index := Scalar.indexCast v169
  ![0, 0, v171.toNat]
def k0_mult13 (v172 : BitVec 32) : BitVec 32 :=
  v172

def k0_mult14 (i : grid0.Coords) : BitVec 32 :=
  let arg1 : BitVec 32 := BitVec.ofNat 32 (i 1).val
  let c2_i32_90 : BitVec 32 := 2#32
  let v166 : BitVec 32 := Scalar.muli arg1 c2_i32_90
  let c0_i32_91 : BitVec 32 := 0#32
  let v167 : BitVec 32 := Scalar.addi v166 c0_i32_91
  let c256_i32_92 : BitVec 32 := 256#32
  let v168 : BitVec 32 := Scalar.muli v167 c256_i32_92
  let c5_i32 : BitVec 32 := 5#32
  let v169 : BitVec 32 := Scalar.addi v168 c5_i32
  let c8_i32_96 : BitVec 32 := 8#32
  let v174 : BitVec 32 := Scalar.muli v169 c8_i32_96
  v174
def k0_off35 (i : grid0.Coords) : Fin 1 → Nat :=
  let c1_i32_93 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v170 : BitVec 32 := Scalar.subi c1_i32_93 v9
  ![v170.toNat]
def k0_off36 (i : grid0.Coords) : Fin 3 → Nat :=
  let c1_i32_93 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v170 : BitVec 32 := Scalar.subi c1_i32_93 v9
  let arg1 : BitVec 32 := BitVec.ofNat 32 (i 1).val
  let c2_i32_90 : BitVec 32 := 2#32
  let v166 : BitVec 32 := Scalar.muli arg1 c2_i32_90
  let c0_i32_91 : BitVec 32 := 0#32
  let v167 : BitVec 32 := Scalar.addi v166 c0_i32_91
  let c256_i32_92 : BitVec 32 := 256#32
  let v168 : BitVec 32 := Scalar.muli v167 c256_i32_92
  let c5_i32 : BitVec 32 := 5#32
  let v169 : BitVec 32 := Scalar.addi v168 c5_i32
  let c8_i32_96 : BitVec 32 := 8#32
  let v174 : BitVec 32 := Scalar.muli v169 c8_i32_96
  let v175 : BitVec 32 := v174
  let c0_i32_97 : BitVec 32 := 0#32
  ![v170.toNat, v175.toNat, 0]
def k0_off37 (v172 : BitVec 32) : Fin 2 → Nat :=
  let v173 : BitVec 32 := v172
  let c0_i32_98 : BitVec 32 := 0#32
  ![v173.toNat, 0]

def k0_chk7 (i : grid0.Coords) (v172 : BitVec 32) : Prop :=
  (∀ (k0_h2 : k0_cond2 i = 1#1), 8 ∣ (k0_mult13 v172).toNat) ∧
  (∀ (k0_h2 : k0_cond2 i = 1#1), ∀ a, (k0_off37 v172) a + S8x128.size a ≤ S131072x128.size a)
theorem k0_mult13_dvd : ∀ (i : grid0.Coords) (v172 : BitVec 32) (k0_hw7 : k0_chk7 i v172), ∀ (k0_h2 : k0_cond2 i = 1#1), 8 ∣ (k0_mult13 v172).toNat := fun i v172 k0_hw7 k0_h2 => k0_hw7.1 k0_h2
theorem k0_off37_inb : ∀ (i : grid0.Coords) (v172 : BitVec 32) (k0_hw7 : k0_chk7 i v172), ∀ (k0_h2 : k0_cond2 i = 1#1), ∀ a, (k0_off37 v172) a + S8x128.size a ≤ S131072x128.size a := fun i v172 k0_hw7 k0_h2 => k0_hw7.2 k0_h2

def k0_off38 (i : grid0.Coords) : Fin 3 → Nat :=
  let c0_103 : Index := 0#32
  let c0_104 : Index := 0#32
  let arg1 : BitVec 32 := BitVec.ofNat 32 (i 1).val
  let c2_i32_99 : BitVec 32 := 2#32
  let v181 : BitVec 32 := Scalar.muli arg1 c2_i32_99
  let c0_i32_100 : BitVec 32 := 0#32
  let v182 : BitVec 32 := Scalar.addi v181 c0_i32_100
  let c256_i32_101 : BitVec 32 := 256#32
  let v183 : BitVec 32 := Scalar.muli v182 c256_i32_101
  let c6_i32 : BitVec 32 := 6#32
  let v184 : BitVec 32 := Scalar.addi v183 c6_i32
  let v186 : Index := Scalar.indexCast v184
  ![0, 0, v186.toNat]
def k0_mult15 (v187 : BitVec 32) : BitVec 32 :=
  v187

def k0_mult16 (i : grid0.Coords) : BitVec 32 :=
  let arg1 : BitVec 32 := BitVec.ofNat 32 (i 1).val
  let c2_i32_99 : BitVec 32 := 2#32
  let v181 : BitVec 32 := Scalar.muli arg1 c2_i32_99
  let c0_i32_100 : BitVec 32 := 0#32
  let v182 : BitVec 32 := Scalar.addi v181 c0_i32_100
  let c256_i32_101 : BitVec 32 := 256#32
  let v183 : BitVec 32 := Scalar.muli v182 c256_i32_101
  let c6_i32 : BitVec 32 := 6#32
  let v184 : BitVec 32 := Scalar.addi v183 c6_i32
  let c8_i32_105 : BitVec 32 := 8#32
  let v189 : BitVec 32 := Scalar.muli v184 c8_i32_105
  v189
def k0_off39 (i : grid0.Coords) : Fin 1 → Nat :=
  let c1_i32_102 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v185 : BitVec 32 := Scalar.subi c1_i32_102 v9
  ![v185.toNat]
def k0_off40 (i : grid0.Coords) : Fin 3 → Nat :=
  let c1_i32_102 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v185 : BitVec 32 := Scalar.subi c1_i32_102 v9
  let arg1 : BitVec 32 := BitVec.ofNat 32 (i 1).val
  let c2_i32_99 : BitVec 32 := 2#32
  let v181 : BitVec 32 := Scalar.muli arg1 c2_i32_99
  let c0_i32_100 : BitVec 32 := 0#32
  let v182 : BitVec 32 := Scalar.addi v181 c0_i32_100
  let c256_i32_101 : BitVec 32 := 256#32
  let v183 : BitVec 32 := Scalar.muli v182 c256_i32_101
  let c6_i32 : BitVec 32 := 6#32
  let v184 : BitVec 32 := Scalar.addi v183 c6_i32
  let c8_i32_105 : BitVec 32 := 8#32
  let v189 : BitVec 32 := Scalar.muli v184 c8_i32_105
  let v190 : BitVec 32 := v189
  let c0_i32_106 : BitVec 32 := 0#32
  ![v185.toNat, v190.toNat, 0]
def k0_off41 (v187 : BitVec 32) : Fin 2 → Nat :=
  let v188 : BitVec 32 := v187
  let c0_i32_107 : BitVec 32 := 0#32
  ![v188.toNat, 0]

def k0_chk8 (i : grid0.Coords) (v187 : BitVec 32) : Prop :=
  (∀ (k0_h2 : k0_cond2 i = 1#1), 8 ∣ (k0_mult15 v187).toNat) ∧
  (∀ (k0_h2 : k0_cond2 i = 1#1), ∀ a, (k0_off41 v187) a + S8x128.size a ≤ S131072x128.size a)
theorem k0_mult15_dvd : ∀ (i : grid0.Coords) (v187 : BitVec 32) (k0_hw8 : k0_chk8 i v187), ∀ (k0_h2 : k0_cond2 i = 1#1), 8 ∣ (k0_mult15 v187).toNat := fun i v187 k0_hw8 k0_h2 => k0_hw8.1 k0_h2
theorem k0_off41_inb : ∀ (i : grid0.Coords) (v187 : BitVec 32) (k0_hw8 : k0_chk8 i v187), ∀ (k0_h2 : k0_cond2 i = 1#1), ∀ a, (k0_off41 v187) a + S8x128.size a ≤ S131072x128.size a := fun i v187 k0_hw8 k0_h2 => k0_hw8.2 k0_h2

def k0_off42 (i : grid0.Coords) : Fin 3 → Nat :=
  let c0_112 : Index := 0#32
  let c0_113 : Index := 0#32
  let arg1 : BitVec 32 := BitVec.ofNat 32 (i 1).val
  let c2_i32_108 : BitVec 32 := 2#32
  let v196 : BitVec 32 := Scalar.muli arg1 c2_i32_108
  let c0_i32_109 : BitVec 32 := 0#32
  let v197 : BitVec 32 := Scalar.addi v196 c0_i32_109
  let c256_i32_110 : BitVec 32 := 256#32
  let v198 : BitVec 32 := Scalar.muli v197 c256_i32_110
  let c7_i32 : BitVec 32 := 7#32
  let v199 : BitVec 32 := Scalar.addi v198 c7_i32
  let v201 : Index := Scalar.indexCast v199
  ![0, 0, v201.toNat]
def k0_mult17 (v202 : BitVec 32) : BitVec 32 :=
  v202

def k0_mult18 (i : grid0.Coords) : BitVec 32 :=
  let arg1 : BitVec 32 := BitVec.ofNat 32 (i 1).val
  let c2_i32_108 : BitVec 32 := 2#32
  let v196 : BitVec 32 := Scalar.muli arg1 c2_i32_108
  let c0_i32_109 : BitVec 32 := 0#32
  let v197 : BitVec 32 := Scalar.addi v196 c0_i32_109
  let c256_i32_110 : BitVec 32 := 256#32
  let v198 : BitVec 32 := Scalar.muli v197 c256_i32_110
  let c7_i32 : BitVec 32 := 7#32
  let v199 : BitVec 32 := Scalar.addi v198 c7_i32
  let c8_i32_114 : BitVec 32 := 8#32
  let v204 : BitVec 32 := Scalar.muli v199 c8_i32_114
  v204
def k0_off43 (i : grid0.Coords) : Fin 1 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v200 : BitVec 32 := Scalar.subi c1_i32_111 v9
  ![v200.toNat]
def k0_off44 (i : grid0.Coords) : Fin 3 → Nat :=
  let c1_i32_111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v200 : BitVec 32 := Scalar.subi c1_i32_111 v9
  let arg1 : BitVec 32 := BitVec.ofNat 32 (i 1).val
  let c2_i32_108 : BitVec 32 := 2#32
  let v196 : BitVec 32 := Scalar.muli arg1 c2_i32_108
  let c0_i32_109 : BitVec 32 := 0#32
  let v197 : BitVec 32 := Scalar.addi v196 c0_i32_109
  let c256_i32_110 : BitVec 32 := 256#32
  let v198 : BitVec 32 := Scalar.muli v197 c256_i32_110
  let c7_i32 : BitVec 32 := 7#32
  let v199 : BitVec 32 := Scalar.addi v198 c7_i32
  let c8_i32_114 : BitVec 32 := 8#32
  let v204 : BitVec 32 := Scalar.muli v199 c8_i32_114
  let v205 : BitVec 32 := v204
  let c0_i32_115 : BitVec 32 := 0#32
  ![v200.toNat, v205.toNat, 0]
def k0_off45 (v202 : BitVec 32) : Fin 2 → Nat :=
  let v203 : BitVec 32 := v202
  let c0_i32_116 : BitVec 32 := 0#32
  ![v203.toNat, 0]

def k0_chk9 (i : grid0.Coords) (v202 : BitVec 32) : Prop :=
  (∀ (k0_h2 : k0_cond2 i = 1#1), 8 ∣ (k0_mult17 v202).toNat) ∧
  (∀ (k0_h2 : k0_cond2 i = 1#1), ∀ a, (k0_off45 v202) a + S8x128.size a ≤ S131072x128.size a)
theorem k0_mult17_dvd : ∀ (i : grid0.Coords) (v202 : BitVec 32) (k0_hw9 : k0_chk9 i v202), ∀ (k0_h2 : k0_cond2 i = 1#1), 8 ∣ (k0_mult17 v202).toNat := fun i v202 k0_hw9 k0_h2 => k0_hw9.1 k0_h2
theorem k0_off45_inb : ∀ (i : grid0.Coords) (v202 : BitVec 32) (k0_hw9 : k0_chk9 i v202), ∀ (k0_h2 : k0_cond2 i = 1#1), ∀ a, (k0_off45 v202) a + S8x128.size a ≤ S131072x128.size a := fun i v202 k0_hw9 k0_h2 => k0_hw9.2 k0_h2

def k0_off46 (i : grid0.Coords) : Fin 3 → Nat :=
  let c0_122 : Index := 0#32
  let c0_123 : Index := 0#32
  let arg1 : BitVec 32 := BitVec.ofNat 32 (i 1).val
  let c2_i32_117 : BitVec 32 := 2#32
  let v211 : BitVec 32 := Scalar.muli arg1 c2_i32_117
  let c0_i32_118 : BitVec 32 := 0#32
  let v212 : BitVec 32 := Scalar.addi v211 c0_i32_118
  let c256_i32_119 : BitVec 32 := 256#32
  let v213 : BitVec 32 := Scalar.muli v212 c256_i32_119
  let c8_i32_120 : BitVec 32 := 8#32
  let v214 : BitVec 32 := Scalar.addi v213 c8_i32_120
  let v216 : Index := Scalar.indexCast v214
  ![0, 0, v216.toNat]
def k0_mult19 (v217 : BitVec 32) : BitVec 32 :=
  v217

def k0_mult20 (i : grid0.Coords) : BitVec 32 :=
  let arg1 : BitVec 32 := BitVec.ofNat 32 (i 1).val
  let c2_i32_117 : BitVec 32 := 2#32
  let v211 : BitVec 32 := Scalar.muli arg1 c2_i32_117
  let c0_i32_118 : BitVec 32 := 0#32
  let v212 : BitVec 32 := Scalar.addi v211 c0_i32_118
  let c256_i32_119 : BitVec 32 := 256#32
  let v213 : BitVec 32 := Scalar.muli v212 c256_i32_119
  let c8_i32_120 : BitVec 32 := 8#32
  let v214 : BitVec 32 := Scalar.addi v213 c8_i32_120
  let c8_i32_124 : BitVec 32 := 8#32
  let v219 : BitVec 32 := Scalar.muli v214 c8_i32_124
  v219
def k0_off47 (i : grid0.Coords) : Fin 1 → Nat :=
  let c1_i32_121 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v215 : BitVec 32 := Scalar.subi c1_i32_121 v9
  ![v215.toNat]
def k0_off48 (i : grid0.Coords) : Fin 3 → Nat :=
  let c1_i32_121 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v215 : BitVec 32 := Scalar.subi c1_i32_121 v9
  let arg1 : BitVec 32 := BitVec.ofNat 32 (i 1).val
  let c2_i32_117 : BitVec 32 := 2#32
  let v211 : BitVec 32 := Scalar.muli arg1 c2_i32_117
  let c0_i32_118 : BitVec 32 := 0#32
  let v212 : BitVec 32 := Scalar.addi v211 c0_i32_118
  let c256_i32_119 : BitVec 32 := 256#32
  let v213 : BitVec 32 := Scalar.muli v212 c256_i32_119
  let c8_i32_120 : BitVec 32 := 8#32
  let v214 : BitVec 32 := Scalar.addi v213 c8_i32_120
  let c8_i32_124 : BitVec 32 := 8#32
  let v219 : BitVec 32 := Scalar.muli v214 c8_i32_124
  let v220 : BitVec 32 := v219
  let c0_i32_125 : BitVec 32 := 0#32
  ![v215.toNat, v220.toNat, 0]
def k0_off49 (v217 : BitVec 32) : Fin 2 → Nat :=
  let v218 : BitVec 32 := v217
  let c0_i32_126 : BitVec 32 := 0#32
  ![v218.toNat, 0]

def k0_chk10 (i : grid0.Coords) (v217 : BitVec 32) : Prop :=
  (∀ (k0_h2 : k0_cond2 i = 1#1), 8 ∣ (k0_mult19 v217).toNat) ∧
  (∀ (k0_h2 : k0_cond2 i = 1#1), ∀ a, (k0_off49 v217) a + S8x128.size a ≤ S131072x128.size a)
theorem k0_mult19_dvd : ∀ (i : grid0.Coords) (v217 : BitVec 32) (k0_hw10 : k0_chk10 i v217), ∀ (k0_h2 : k0_cond2 i = 1#1), 8 ∣ (k0_mult19 v217).toNat := fun i v217 k0_hw10 k0_h2 => k0_hw10.1 k0_h2
theorem k0_off49_inb : ∀ (i : grid0.Coords) (v217 : BitVec 32) (k0_hw10 : k0_chk10 i v217), ∀ (k0_h2 : k0_cond2 i = 1#1), ∀ a, (k0_off49 v217) a + S8x128.size a ≤ S131072x128.size a := fun i v217 k0_hw10 k0_h2 => k0_hw10.2 k0_h2

def k0_off50 (i : grid0.Coords) : Fin 3 → Nat :=
  let c0_131 : Index := 0#32
  let c0_132 : Index := 0#32
  let arg1 : BitVec 32 := BitVec.ofNat 32 (i 1).val
  let c2_i32_127 : BitVec 32 := 2#32
  let v226 : BitVec 32 := Scalar.muli arg1 c2_i32_127
  let c0_i32_128 : BitVec 32 := 0#32
  let v227 : BitVec 32 := Scalar.addi v226 c0_i32_128
  let c256_i32_129 : BitVec 32 := 256#32
  let v228 : BitVec 32 := Scalar.muli v227 c256_i32_129
  let c9_i32 : BitVec 32 := 9#32
  let v229 : BitVec 32 := Scalar.addi v228 c9_i32
  let v231 : Index := Scalar.indexCast v229
  ![0, 0, v231.toNat]
def k0_mult21 (v232 : BitVec 32) : BitVec 32 :=
  v232

def k0_mult22 (i : grid0.Coords) : BitVec 32 :=
  let arg1 : BitVec 32 := BitVec.ofNat 32 (i 1).val
  let c2_i32_127 : BitVec 32 := 2#32
  let v226 : BitVec 32 := Scalar.muli arg1 c2_i32_127
  let c0_i32_128 : BitVec 32 := 0#32
  let v227 : BitVec 32 := Scalar.addi v226 c0_i32_128
  let c256_i32_129 : BitVec 32 := 256#32
  let v228 : BitVec 32 := Scalar.muli v227 c256_i32_129
  let c9_i32 : BitVec 32 := 9#32
  let v229 : BitVec 32 := Scalar.addi v228 c9_i32
  let c8_i32_133 : BitVec 32 := 8#32
  let v234 : BitVec 32 := Scalar.muli v229 c8_i32_133
  v234
def k0_off51 (i : grid0.Coords) : Fin 1 → Nat :=
  let c1_i32_130 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v230 : BitVec 32 := Scalar.subi c1_i32_130 v9
  ![v230.toNat]
def k0_off52 (i : grid0.Coords) : Fin 3 → Nat :=
  let c1_i32_130 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v230 : BitVec 32 := Scalar.subi c1_i32_130 v9
  let arg1 : BitVec 32 := BitVec.ofNat 32 (i 1).val
  let c2_i32_127 : BitVec 32 := 2#32
  let v226 : BitVec 32 := Scalar.muli arg1 c2_i32_127
  let c0_i32_128 : BitVec 32 := 0#32
  let v227 : BitVec 32 := Scalar.addi v226 c0_i32_128
  let c256_i32_129 : BitVec 32 := 256#32
  let v228 : BitVec 32 := Scalar.muli v227 c256_i32_129
  let c9_i32 : BitVec 32 := 9#32
  let v229 : BitVec 32 := Scalar.addi v228 c9_i32
  let c8_i32_133 : BitVec 32 := 8#32
  let v234 : BitVec 32 := Scalar.muli v229 c8_i32_133
  let v235 : BitVec 32 := v234
  let c0_i32_134 : BitVec 32 := 0#32
  ![v230.toNat, v235.toNat, 0]
def k0_off53 (v232 : BitVec 32) : Fin 2 → Nat :=
  let v233 : BitVec 32 := v232
  let c0_i32_135 : BitVec 32 := 0#32
  ![v233.toNat, 0]

def k0_chk11 (i : grid0.Coords) (v232 : BitVec 32) : Prop :=
  (∀ (k0_h2 : k0_cond2 i = 1#1), 8 ∣ (k0_mult21 v232).toNat) ∧
  (∀ (k0_h2 : k0_cond2 i = 1#1), ∀ a, (k0_off53 v232) a + S8x128.size a ≤ S131072x128.size a)
theorem k0_mult21_dvd : ∀ (i : grid0.Coords) (v232 : BitVec 32) (k0_hw11 : k0_chk11 i v232), ∀ (k0_h2 : k0_cond2 i = 1#1), 8 ∣ (k0_mult21 v232).toNat := fun i v232 k0_hw11 k0_h2 => k0_hw11.1 k0_h2
theorem k0_off53_inb : ∀ (i : grid0.Coords) (v232 : BitVec 32) (k0_hw11 : k0_chk11 i v232), ∀ (k0_h2 : k0_cond2 i = 1#1), ∀ a, (k0_off53 v232) a + S8x128.size a ≤ S131072x128.size a := fun i v232 k0_hw11 k0_h2 => k0_hw11.2 k0_h2

def k0_off54 (i : grid0.Coords) : Fin 3 → Nat :=
  let c0_140 : Index := 0#32
  let c0_141 : Index := 0#32
  let arg1 : BitVec 32 := BitVec.ofNat 32 (i 1).val
  let c2_i32_136 : BitVec 32 := 2#32
  let v241 : BitVec 32 := Scalar.muli arg1 c2_i32_136
  let c0_i32_137 : BitVec 32 := 0#32
  let v242 : BitVec 32 := Scalar.addi v241 c0_i32_137
  let c256_i32_138 : BitVec 32 := 256#32
  let v243 : BitVec 32 := Scalar.muli v242 c256_i32_138
  let c10_i32 : BitVec 32 := 10#32
  let v244 : BitVec 32 := Scalar.addi v243 c10_i32
  let v246 : Index := Scalar.indexCast v244
  ![0, 0, v246.toNat]
def k0_mult23 (v247 : BitVec 32) : BitVec 32 :=
  v247

def k0_mult24 (i : grid0.Coords) : BitVec 32 :=
  let arg1 : BitVec 32 := BitVec.ofNat 32 (i 1).val
  let c2_i32_136 : BitVec 32 := 2#32
  let v241 : BitVec 32 := Scalar.muli arg1 c2_i32_136
  let c0_i32_137 : BitVec 32 := 0#32
  let v242 : BitVec 32 := Scalar.addi v241 c0_i32_137
  let c256_i32_138 : BitVec 32 := 256#32
  let v243 : BitVec 32 := Scalar.muli v242 c256_i32_138
  let c10_i32 : BitVec 32 := 10#32
  let v244 : BitVec 32 := Scalar.addi v243 c10_i32
  let c8_i32_142 : BitVec 32 := 8#32
  let v249 : BitVec 32 := Scalar.muli v244 c8_i32_142
  v249
def k0_off55 (i : grid0.Coords) : Fin 1 → Nat :=
  let c1_i32_139 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v245 : BitVec 32 := Scalar.subi c1_i32_139 v9
  ![v245.toNat]
def k0_off56 (i : grid0.Coords) : Fin 3 → Nat :=
  let c1_i32_139 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v245 : BitVec 32 := Scalar.subi c1_i32_139 v9
  let arg1 : BitVec 32 := BitVec.ofNat 32 (i 1).val
  let c2_i32_136 : BitVec 32 := 2#32
  let v241 : BitVec 32 := Scalar.muli arg1 c2_i32_136
  let c0_i32_137 : BitVec 32 := 0#32
  let v242 : BitVec 32 := Scalar.addi v241 c0_i32_137
  let c256_i32_138 : BitVec 32 := 256#32
  let v243 : BitVec 32 := Scalar.muli v242 c256_i32_138
  let c10_i32 : BitVec 32 := 10#32
  let v244 : BitVec 32 := Scalar.addi v243 c10_i32
  let c8_i32_142 : BitVec 32 := 8#32
  let v249 : BitVec 32 := Scalar.muli v244 c8_i32_142
  let v250 : BitVec 32 := v249
  let c0_i32_143 : BitVec 32 := 0#32
  ![v245.toNat, v250.toNat, 0]
def k0_off57 (v247 : BitVec 32) : Fin 2 → Nat :=
  let v248 : BitVec 32 := v247
  let c0_i32_144 : BitVec 32 := 0#32
  ![v248.toNat, 0]

def k0_chk12 (i : grid0.Coords) (v247 : BitVec 32) : Prop :=
  (∀ (k0_h2 : k0_cond2 i = 1#1), 8 ∣ (k0_mult23 v247).toNat) ∧
  (∀ (k0_h2 : k0_cond2 i = 1#1), ∀ a, (k0_off57 v247) a + S8x128.size a ≤ S131072x128.size a)
theorem k0_mult23_dvd : ∀ (i : grid0.Coords) (v247 : BitVec 32) (k0_hw12 : k0_chk12 i v247), ∀ (k0_h2 : k0_cond2 i = 1#1), 8 ∣ (k0_mult23 v247).toNat := fun i v247 k0_hw12 k0_h2 => k0_hw12.1 k0_h2
theorem k0_off57_inb : ∀ (i : grid0.Coords) (v247 : BitVec 32) (k0_hw12 : k0_chk12 i v247), ∀ (k0_h2 : k0_cond2 i = 1#1), ∀ a, (k0_off57 v247) a + S8x128.size a ≤ S131072x128.size a := fun i v247 k0_hw12 k0_h2 => k0_hw12.2 k0_h2

def k0_off58 (i : grid0.Coords) : Fin 3 → Nat :=
  let c0_149 : Index := 0#32
  let c0_150 : Index := 0#32
  let arg1 : BitVec 32 := BitVec.ofNat 32 (i 1).val
  let c2_i32_145 : BitVec 32 := 2#32
  let v256 : BitVec 32 := Scalar.muli arg1 c2_i32_145
  let c0_i32_146 : BitVec 32 := 0#32
  let v257 : BitVec 32 := Scalar.addi v256 c0_i32_146
  let c256_i32_147 : BitVec 32 := 256#32
  let v258 : BitVec 32 := Scalar.muli v257 c256_i32_147
  let c11_i32 : BitVec 32 := 11#32
  let v259 : BitVec 32 := Scalar.addi v258 c11_i32
  let v261 : Index := Scalar.indexCast v259
  ![0, 0, v261.toNat]
def k0_mult25 (v262 : BitVec 32) : BitVec 32 :=
  v262

def k0_mult26 (i : grid0.Coords) : BitVec 32 :=
  let arg1 : BitVec 32 := BitVec.ofNat 32 (i 1).val
  let c2_i32_145 : BitVec 32 := 2#32
  let v256 : BitVec 32 := Scalar.muli arg1 c2_i32_145
  let c0_i32_146 : BitVec 32 := 0#32
  let v257 : BitVec 32 := Scalar.addi v256 c0_i32_146
  let c256_i32_147 : BitVec 32 := 256#32
  let v258 : BitVec 32 := Scalar.muli v257 c256_i32_147
  let c11_i32 : BitVec 32 := 11#32
  let v259 : BitVec 32 := Scalar.addi v258 c11_i32
  let c8_i32_151 : BitVec 32 := 8#32
  let v264 : BitVec 32 := Scalar.muli v259 c8_i32_151
  v264
def k0_off59 (i : grid0.Coords) : Fin 1 → Nat :=
  let c1_i32_148 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v260 : BitVec 32 := Scalar.subi c1_i32_148 v9
  ![v260.toNat]
def k0_off60 (i : grid0.Coords) : Fin 3 → Nat :=
  let c1_i32_148 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v260 : BitVec 32 := Scalar.subi c1_i32_148 v9
  let arg1 : BitVec 32 := BitVec.ofNat 32 (i 1).val
  let c2_i32_145 : BitVec 32 := 2#32
  let v256 : BitVec 32 := Scalar.muli arg1 c2_i32_145
  let c0_i32_146 : BitVec 32 := 0#32
  let v257 : BitVec 32 := Scalar.addi v256 c0_i32_146
  let c256_i32_147 : BitVec 32 := 256#32
  let v258 : BitVec 32 := Scalar.muli v257 c256_i32_147
  let c11_i32 : BitVec 32 := 11#32
  let v259 : BitVec 32 := Scalar.addi v258 c11_i32
  let c8_i32_151 : BitVec 32 := 8#32
  let v264 : BitVec 32 := Scalar.muli v259 c8_i32_151
  let v265 : BitVec 32 := v264
  let c0_i32_152 : BitVec 32 := 0#32
  ![v260.toNat, v265.toNat, 0]
def k0_off61 (v262 : BitVec 32) : Fin 2 → Nat :=
  let v263 : BitVec 32 := v262
  let c0_i32_153 : BitVec 32 := 0#32
  ![v263.toNat, 0]

def k0_chk13 (i : grid0.Coords) (v262 : BitVec 32) : Prop :=
  (∀ (k0_h2 : k0_cond2 i = 1#1), 8 ∣ (k0_mult25 v262).toNat) ∧
  (∀ (k0_h2 : k0_cond2 i = 1#1), ∀ a, (k0_off61 v262) a + S8x128.size a ≤ S131072x128.size a)
theorem k0_mult25_dvd : ∀ (i : grid0.Coords) (v262 : BitVec 32) (k0_hw13 : k0_chk13 i v262), ∀ (k0_h2 : k0_cond2 i = 1#1), 8 ∣ (k0_mult25 v262).toNat := fun i v262 k0_hw13 k0_h2 => k0_hw13.1 k0_h2
theorem k0_off61_inb : ∀ (i : grid0.Coords) (v262 : BitVec 32) (k0_hw13 : k0_chk13 i v262), ∀ (k0_h2 : k0_cond2 i = 1#1), ∀ a, (k0_off61 v262) a + S8x128.size a ≤ S131072x128.size a := fun i v262 k0_hw13 k0_h2 => k0_hw13.2 k0_h2

def k0_off62 (i : grid0.Coords) : Fin 3 → Nat :=
  let c0_158 : Index := 0#32
  let c0_159 : Index := 0#32
  let arg1 : BitVec 32 := BitVec.ofNat 32 (i 1).val
  let c2_i32_154 : BitVec 32 := 2#32
  let v271 : BitVec 32 := Scalar.muli arg1 c2_i32_154
  let c0_i32_155 : BitVec 32 := 0#32
  let v272 : BitVec 32 := Scalar.addi v271 c0_i32_155
  let c256_i32_156 : BitVec 32 := 256#32
  let v273 : BitVec 32 := Scalar.muli v272 c256_i32_156
  let c12_i32 : BitVec 32 := 12#32
  let v274 : BitVec 32 := Scalar.addi v273 c12_i32
  let v276 : Index := Scalar.indexCast v274
  ![0, 0, v276.toNat]
def k0_mult27 (v277 : BitVec 32) : BitVec 32 :=
  v277

def k0_mult28 (i : grid0.Coords) : BitVec 32 :=
  let arg1 : BitVec 32 := BitVec.ofNat 32 (i 1).val
  let c2_i32_154 : BitVec 32 := 2#32
  let v271 : BitVec 32 := Scalar.muli arg1 c2_i32_154
  let c0_i32_155 : BitVec 32 := 0#32
  let v272 : BitVec 32 := Scalar.addi v271 c0_i32_155
  let c256_i32_156 : BitVec 32 := 256#32
  let v273 : BitVec 32 := Scalar.muli v272 c256_i32_156
  let c12_i32 : BitVec 32 := 12#32
  let v274 : BitVec 32 := Scalar.addi v273 c12_i32
  let c8_i32_160 : BitVec 32 := 8#32
  let v279 : BitVec 32 := Scalar.muli v274 c8_i32_160
  v279
def k0_off63 (i : grid0.Coords) : Fin 1 → Nat :=
  let c1_i32_157 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v275 : BitVec 32 := Scalar.subi c1_i32_157 v9
  ![v275.toNat]
def k0_off64 (i : grid0.Coords) : Fin 3 → Nat :=
  let c1_i32_157 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v275 : BitVec 32 := Scalar.subi c1_i32_157 v9
  let arg1 : BitVec 32 := BitVec.ofNat 32 (i 1).val
  let c2_i32_154 : BitVec 32 := 2#32
  let v271 : BitVec 32 := Scalar.muli arg1 c2_i32_154
  let c0_i32_155 : BitVec 32 := 0#32
  let v272 : BitVec 32 := Scalar.addi v271 c0_i32_155
  let c256_i32_156 : BitVec 32 := 256#32
  let v273 : BitVec 32 := Scalar.muli v272 c256_i32_156
  let c12_i32 : BitVec 32 := 12#32
  let v274 : BitVec 32 := Scalar.addi v273 c12_i32
  let c8_i32_160 : BitVec 32 := 8#32
  let v279 : BitVec 32 := Scalar.muli v274 c8_i32_160
  let v280 : BitVec 32 := v279
  let c0_i32_161 : BitVec 32 := 0#32
  ![v275.toNat, v280.toNat, 0]
def k0_off65 (v277 : BitVec 32) : Fin 2 → Nat :=
  let v278 : BitVec 32 := v277
  let c0_i32_162 : BitVec 32 := 0#32
  ![v278.toNat, 0]

def k0_chk14 (i : grid0.Coords) (v277 : BitVec 32) : Prop :=
  (∀ (k0_h2 : k0_cond2 i = 1#1), 8 ∣ (k0_mult27 v277).toNat) ∧
  (∀ (k0_h2 : k0_cond2 i = 1#1), ∀ a, (k0_off65 v277) a + S8x128.size a ≤ S131072x128.size a)
theorem k0_mult27_dvd : ∀ (i : grid0.Coords) (v277 : BitVec 32) (k0_hw14 : k0_chk14 i v277), ∀ (k0_h2 : k0_cond2 i = 1#1), 8 ∣ (k0_mult27 v277).toNat := fun i v277 k0_hw14 k0_h2 => k0_hw14.1 k0_h2
theorem k0_off65_inb : ∀ (i : grid0.Coords) (v277 : BitVec 32) (k0_hw14 : k0_chk14 i v277), ∀ (k0_h2 : k0_cond2 i = 1#1), ∀ a, (k0_off65 v277) a + S8x128.size a ≤ S131072x128.size a := fun i v277 k0_hw14 k0_h2 => k0_hw14.2 k0_h2

def k0_off66 (i : grid0.Coords) : Fin 3 → Nat :=
  let c0_167 : Index := 0#32
  let c0_168 : Index := 0#32
  let arg1 : BitVec 32 := BitVec.ofNat 32 (i 1).val
  let c2_i32_163 : BitVec 32 := 2#32
  let v286 : BitVec 32 := Scalar.muli arg1 c2_i32_163
  let c0_i32_164 : BitVec 32 := 0#32
  let v287 : BitVec 32 := Scalar.addi v286 c0_i32_164
  let c256_i32_165 : BitVec 32 := 256#32
  let v288 : BitVec 32 := Scalar.muli v287 c256_i32_165
  let c13_i32 : BitVec 32 := 13#32
  let v289 : BitVec 32 := Scalar.addi v288 c13_i32
  let v291 : Index := Scalar.indexCast v289
  ![0, 0, v291.toNat]
def k0_mult29 (v292 : BitVec 32) : BitVec 32 :=
  v292

def k0_mult30 (i : grid0.Coords) : BitVec 32 :=
  let arg1 : BitVec 32 := BitVec.ofNat 32 (i 1).val
  let c2_i32_163 : BitVec 32 := 2#32
  let v286 : BitVec 32 := Scalar.muli arg1 c2_i32_163
  let c0_i32_164 : BitVec 32 := 0#32
  let v287 : BitVec 32 := Scalar.addi v286 c0_i32_164
  let c256_i32_165 : BitVec 32 := 256#32
  let v288 : BitVec 32 := Scalar.muli v287 c256_i32_165
  let c13_i32 : BitVec 32 := 13#32
  let v289 : BitVec 32 := Scalar.addi v288 c13_i32
  let c8_i32_169 : BitVec 32 := 8#32
  let v294 : BitVec 32 := Scalar.muli v289 c8_i32_169
  v294
def k0_off67 (i : grid0.Coords) : Fin 1 → Nat :=
  let c1_i32_166 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_166 v9
  ![v290.toNat]
def k0_off68 (i : grid0.Coords) : Fin 3 → Nat :=
  let c1_i32_166 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v290 : BitVec 32 := Scalar.subi c1_i32_166 v9
  let arg1 : BitVec 32 := BitVec.ofNat 32 (i 1).val
  let c2_i32_163 : BitVec 32 := 2#32
  let v286 : BitVec 32 := Scalar.muli arg1 c2_i32_163
  let c0_i32_164 : BitVec 32 := 0#32
  let v287 : BitVec 32 := Scalar.addi v286 c0_i32_164
  let c256_i32_165 : BitVec 32 := 256#32
  let v288 : BitVec 32 := Scalar.muli v287 c256_i32_165
  let c13_i32 : BitVec 32 := 13#32
  let v289 : BitVec 32 := Scalar.addi v288 c13_i32
  let c8_i32_169 : BitVec 32 := 8#32
  let v294 : BitVec 32 := Scalar.muli v289 c8_i32_169
  let v295 : BitVec 32 := v294
  let c0_i32_170 : BitVec 32 := 0#32
  ![v290.toNat, v295.toNat, 0]
def k0_off69 (v292 : BitVec 32) : Fin 2 → Nat :=
  let v293 : BitVec 32 := v292
  let c0_i32_171 : BitVec 32 := 0#32
  ![v293.toNat, 0]

def k0_chk15 (i : grid0.Coords) (v292 : BitVec 32) : Prop :=
  (∀ (k0_h2 : k0_cond2 i = 1#1), 8 ∣ (k0_mult29 v292).toNat) ∧
  (∀ (k0_h2 : k0_cond2 i = 1#1), ∀ a, (k0_off69 v292) a + S8x128.size a ≤ S131072x128.size a)
theorem k0_mult29_dvd : ∀ (i : grid0.Coords) (v292 : BitVec 32) (k0_hw15 : k0_chk15 i v292), ∀ (k0_h2 : k0_cond2 i = 1#1), 8 ∣ (k0_mult29 v292).toNat := fun i v292 k0_hw15 k0_h2 => k0_hw15.1 k0_h2
theorem k0_off69_inb : ∀ (i : grid0.Coords) (v292 : BitVec 32) (k0_hw15 : k0_chk15 i v292), ∀ (k0_h2 : k0_cond2 i = 1#1), ∀ a, (k0_off69 v292) a + S8x128.size a ≤ S131072x128.size a := fun i v292 k0_hw15 k0_h2 => k0_hw15.2 k0_h2

def k0_off70 (i : grid0.Coords) : Fin 3 → Nat :=
  let c0_176 : Index := 0#32
  let c0_177 : Index := 0#32
  let arg1 : BitVec 32 := BitVec.ofNat 32 (i 1).val
  let c2_i32_172 : BitVec 32 := 2#32
  let v301 : BitVec 32 := Scalar.muli arg1 c2_i32_172
  let c0_i32_173 : BitVec 32 := 0#32
  let v302 : BitVec 32 := Scalar.addi v301 c0_i32_173
  let c256_i32_174 : BitVec 32 := 256#32
  let v303 : BitVec 32 := Scalar.muli v302 c256_i32_174
  let c14_i32 : BitVec 32 := 14#32
  let v304 : BitVec 32 := Scalar.addi v303 c14_i32
  let v306 : Index := Scalar.indexCast v304
  ![0, 0, v306.toNat]
def k0_mult31 (v307 : BitVec 32) : BitVec 32 :=
  v307

def k0_mult32 (i : grid0.Coords) : BitVec 32 :=
  let arg1 : BitVec 32 := BitVec.ofNat 32 (i 1).val
  let c2_i32_172 : BitVec 32 := 2#32
  let v301 : BitVec 32 := Scalar.muli arg1 c2_i32_172
  let c0_i32_173 : BitVec 32 := 0#32
  let v302 : BitVec 32 := Scalar.addi v301 c0_i32_173
  let c256_i32_174 : BitVec 32 := 256#32
  let v303 : BitVec 32 := Scalar.muli v302 c256_i32_174
  let c14_i32 : BitVec 32 := 14#32
  let v304 : BitVec 32 := Scalar.addi v303 c14_i32
  let c8_i32_178 : BitVec 32 := 8#32
  let v309 : BitVec 32 := Scalar.muli v304 c8_i32_178
  v309
def k0_off71 (i : grid0.Coords) : Fin 1 → Nat :=
  let c1_i32_175 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v305 : BitVec 32 := Scalar.subi c1_i32_175 v9
  ![v305.toNat]
def k0_off72 (i : grid0.Coords) : Fin 3 → Nat :=
  let c1_i32_175 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v305 : BitVec 32 := Scalar.subi c1_i32_175 v9
  let arg1 : BitVec 32 := BitVec.ofNat 32 (i 1).val
  let c2_i32_172 : BitVec 32 := 2#32
  let v301 : BitVec 32 := Scalar.muli arg1 c2_i32_172
  let c0_i32_173 : BitVec 32 := 0#32
  let v302 : BitVec 32 := Scalar.addi v301 c0_i32_173
  let c256_i32_174 : BitVec 32 := 256#32
  let v303 : BitVec 32 := Scalar.muli v302 c256_i32_174
  let c14_i32 : BitVec 32 := 14#32
  let v304 : BitVec 32 := Scalar.addi v303 c14_i32
  let c8_i32_178 : BitVec 32 := 8#32
  let v309 : BitVec 32 := Scalar.muli v304 c8_i32_178
  let v310 : BitVec 32 := v309
  let c0_i32_179 : BitVec 32 := 0#32
  ![v305.toNat, v310.toNat, 0]
def k0_off73 (v307 : BitVec 32) : Fin 2 → Nat :=
  let v308 : BitVec 32 := v307
  let c0_i32_180 : BitVec 32 := 0#32
  ![v308.toNat, 0]

def k0_chk16 (i : grid0.Coords) (v307 : BitVec 32) : Prop :=
  (∀ (k0_h2 : k0_cond2 i = 1#1), 8 ∣ (k0_mult31 v307).toNat) ∧
  (∀ (k0_h2 : k0_cond2 i = 1#1), ∀ a, (k0_off73 v307) a + S8x128.size a ≤ S131072x128.size a)
theorem k0_mult31_dvd : ∀ (i : grid0.Coords) (v307 : BitVec 32) (k0_hw16 : k0_chk16 i v307), ∀ (k0_h2 : k0_cond2 i = 1#1), 8 ∣ (k0_mult31 v307).toNat := fun i v307 k0_hw16 k0_h2 => k0_hw16.1 k0_h2
theorem k0_off73_inb : ∀ (i : grid0.Coords) (v307 : BitVec 32) (k0_hw16 : k0_chk16 i v307), ∀ (k0_h2 : k0_cond2 i = 1#1), ∀ a, (k0_off73 v307) a + S8x128.size a ≤ S131072x128.size a := fun i v307 k0_hw16 k0_h2 => k0_hw16.2 k0_h2

def k0_off74 (i : grid0.Coords) : Fin 3 → Nat :=
  let c0_186 : Index := 0#32
  let c0_187 : Index := 0#32
  let arg1 : BitVec 32 := BitVec.ofNat 32 (i 1).val
  let c2_i32_181 : BitVec 32 := 2#32
  let v316 : BitVec 32 := Scalar.muli arg1 c2_i32_181
  let c0_i32_182 : BitVec 32 := 0#32
  let v317 : BitVec 32 := Scalar.addi v316 c0_i32_182
  let c256_i32_183 : BitVec 32 := 256#32
  let v318 : BitVec 32 := Scalar.muli v317 c256_i32_183
  let c15_i32_184 : BitVec 32 := 15#32
  let v319 : BitVec 32 := Scalar.addi v318 c15_i32_184
  let v321 : Index := Scalar.indexCast v319
  ![0, 0, v321.toNat]
def k0_mult33 (v322 : BitVec 32) : BitVec 32 :=
  v322

def k0_mult34 (i : grid0.Coords) : BitVec 32 :=
  let arg1 : BitVec 32 := BitVec.ofNat 32 (i 1).val
  let c2_i32_181 : BitVec 32 := 2#32
  let v316 : BitVec 32 := Scalar.muli arg1 c2_i32_181
  let c0_i32_182 : BitVec 32 := 0#32
  let v317 : BitVec 32 := Scalar.addi v316 c0_i32_182
  let c256_i32_183 : BitVec 32 := 256#32
  let v318 : BitVec 32 := Scalar.muli v317 c256_i32_183
  let c15_i32_184 : BitVec 32 := 15#32
  let v319 : BitVec 32 := Scalar.addi v318 c15_i32_184
  let c8_i32_188 : BitVec 32 := 8#32
  let v324 : BitVec 32 := Scalar.muli v319 c8_i32_188
  v324
def k0_off75 (i : grid0.Coords) : Fin 1 → Nat :=
  let c1_i32_185 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v320 : BitVec 32 := Scalar.subi c1_i32_185 v9
  ![v320.toNat]
def k0_off76 (i : grid0.Coords) : Fin 3 → Nat :=
  let c1_i32_185 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v320 : BitVec 32 := Scalar.subi c1_i32_185 v9
  let arg1 : BitVec 32 := BitVec.ofNat 32 (i 1).val
  let c2_i32_181 : BitVec 32 := 2#32
  let v316 : BitVec 32 := Scalar.muli arg1 c2_i32_181
  let c0_i32_182 : BitVec 32 := 0#32
  let v317 : BitVec 32 := Scalar.addi v316 c0_i32_182
  let c256_i32_183 : BitVec 32 := 256#32
  let v318 : BitVec 32 := Scalar.muli v317 c256_i32_183
  let c15_i32_184 : BitVec 32 := 15#32
  let v319 : BitVec 32 := Scalar.addi v318 c15_i32_184
  let c8_i32_188 : BitVec 32 := 8#32
  let v324 : BitVec 32 := Scalar.muli v319 c8_i32_188
  let v325 : BitVec 32 := v324
  let c0_i32_189 : BitVec 32 := 0#32
  ![v320.toNat, v325.toNat, 0]
def k0_off77 (v322 : BitVec 32) : Fin 2 → Nat :=
  let v323 : BitVec 32 := v322
  let c0_i32_190 : BitVec 32 := 0#32
  ![v323.toNat, 0]

def k0_chk17 (i : grid0.Coords) (v322 : BitVec 32) : Prop :=
  (∀ (k0_h2 : k0_cond2 i = 1#1), 8 ∣ (k0_mult33 v322).toNat) ∧
  (∀ (k0_h2 : k0_cond2 i = 1#1), ∀ a, (k0_off77 v322) a + S8x128.size a ≤ S131072x128.size a)
theorem k0_mult33_dvd : ∀ (i : grid0.Coords) (v322 : BitVec 32) (k0_hw17 : k0_chk17 i v322), ∀ (k0_h2 : k0_cond2 i = 1#1), 8 ∣ (k0_mult33 v322).toNat := fun i v322 k0_hw17 k0_h2 => k0_hw17.1 k0_h2
theorem k0_off77_inb : ∀ (i : grid0.Coords) (v322 : BitVec 32) (k0_hw17 : k0_chk17 i v322), ∀ (k0_h2 : k0_cond2 i = 1#1), ∀ a, (k0_off77 v322) a + S8x128.size a ≤ S131072x128.size a := fun i v322 k0_hw17 k0_h2 => k0_hw17.2 k0_h2

def k0_off78 (i : grid0.Coords) : Fin 3 → Nat :=
  let c0_195 : Index := 0#32
  let c0_196 : Index := 0#32
  let arg1 : BitVec 32 := BitVec.ofNat 32 (i 1).val
  let c2_i32_191 : BitVec 32 := 2#32
  let v331 : BitVec 32 := Scalar.muli arg1 c2_i32_191
  let c0_i32_192 : BitVec 32 := 0#32
  let v332 : BitVec 32 := Scalar.addi v331 c0_i32_192
  let c256_i32_193 : BitVec 32 := 256#32
  let v333 : BitVec 32 := Scalar.muli v332 c256_i32_193
  let c16_i32 : BitVec 32 := 16#32
  let v334 : BitVec 32 := Scalar.addi v333 c16_i32
  let v336 : Index := Scalar.indexCast v334
  ![0, 0, v336.toNat]
def k0_mult35 (v337 : BitVec 32) : BitVec 32 :=
  v337

def k0_mult36 (i : grid0.Coords) : BitVec 32 :=
  let arg1 : BitVec 32 := BitVec.ofNat 32 (i 1).val
  let c2_i32_191 : BitVec 32 := 2#32
  let v331 : BitVec 32 := Scalar.muli arg1 c2_i32_191
  let c0_i32_192 : BitVec 32 := 0#32
  let v332 : BitVec 32 := Scalar.addi v331 c0_i32_192
  let c256_i32_193 : BitVec 32 := 256#32
  let v333 : BitVec 32 := Scalar.muli v332 c256_i32_193
  let c16_i32 : BitVec 32 := 16#32
  let v334 : BitVec 32 := Scalar.addi v333 c16_i32
  let c8_i32_197 : BitVec 32 := 8#32
  let v339 : BitVec 32 := Scalar.muli v334 c8_i32_197
  v339
def k0_off79 (i : grid0.Coords) : Fin 1 → Nat :=
  let c1_i32_194 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v335 : BitVec 32 := Scalar.subi c1_i32_194 v9
  ![v335.toNat]
def k0_off80 (i : grid0.Coords) : Fin 3 → Nat :=
  let c1_i32_194 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v335 : BitVec 32 := Scalar.subi c1_i32_194 v9
  let arg1 : BitVec 32 := BitVec.ofNat 32 (i 1).val
  let c2_i32_191 : BitVec 32 := 2#32
  let v331 : BitVec 32 := Scalar.muli arg1 c2_i32_191
  let c0_i32_192 : BitVec 32 := 0#32
  let v332 : BitVec 32 := Scalar.addi v331 c0_i32_192
  let c256_i32_193 : BitVec 32 := 256#32
  let v333 : BitVec 32 := Scalar.muli v332 c256_i32_193
  let c16_i32 : BitVec 32 := 16#32
  let v334 : BitVec 32 := Scalar.addi v333 c16_i32
  let c8_i32_197 : BitVec 32 := 8#32
  let v339 : BitVec 32 := Scalar.muli v334 c8_i32_197
  let v340 : BitVec 32 := v339
  let c0_i32_198 : BitVec 32 := 0#32
  ![v335.toNat, v340.toNat, 0]
def k0_off81 (v337 : BitVec 32) : Fin 2 → Nat :=
  let v338 : BitVec 32 := v337
  let c0_i32_199 : BitVec 32 := 0#32
  ![v338.toNat, 0]

def k0_chk18 (i : grid0.Coords) (v337 : BitVec 32) : Prop :=
  (∀ (k0_h2 : k0_cond2 i = 1#1), 8 ∣ (k0_mult35 v337).toNat) ∧
  (∀ (k0_h2 : k0_cond2 i = 1#1), ∀ a, (k0_off81 v337) a + S8x128.size a ≤ S131072x128.size a)
theorem k0_mult35_dvd : ∀ (i : grid0.Coords) (v337 : BitVec 32) (k0_hw18 : k0_chk18 i v337), ∀ (k0_h2 : k0_cond2 i = 1#1), 8 ∣ (k0_mult35 v337).toNat := fun i v337 k0_hw18 k0_h2 => k0_hw18.1 k0_h2
theorem k0_off81_inb : ∀ (i : grid0.Coords) (v337 : BitVec 32) (k0_hw18 : k0_chk18 i v337), ∀ (k0_h2 : k0_cond2 i = 1#1), ∀ a, (k0_off81 v337) a + S8x128.size a ≤ S131072x128.size a := fun i v337 k0_hw18 k0_h2 => k0_hw18.2 k0_h2

def k0_off82 (i : grid0.Coords) : Fin 3 → Nat :=
  let c0_204 : Index := 0#32
  let c0_205 : Index := 0#32
  let arg1 : BitVec 32 := BitVec.ofNat 32 (i 1).val
  let c2_i32_200 : BitVec 32 := 2#32
  let v346 : BitVec 32 := Scalar.muli arg1 c2_i32_200
  let c0_i32_201 : BitVec 32 := 0#32
  let v347 : BitVec 32 := Scalar.addi v346 c0_i32_201
  let c256_i32_202 : BitVec 32 := 256#32
  let v348 : BitVec 32 := Scalar.muli v347 c256_i32_202
  let c17_i32 : BitVec 32 := 17#32
  let v349 : BitVec 32 := Scalar.addi v348 c17_i32
  let v351 : Index := Scalar.indexCast v349
  ![0, 0, v351.toNat]
def k0_mult37 (v352 : BitVec 32) : BitVec 32 :=
  v352

def k0_mult38 (i : grid0.Coords) : BitVec 32 :=
  let arg1 : BitVec 32 := BitVec.ofNat 32 (i 1).val
  let c2_i32_200 : BitVec 32 := 2#32
  let v346 : BitVec 32 := Scalar.muli arg1 c2_i32_200
  let c0_i32_201 : BitVec 32 := 0#32
  let v347 : BitVec 32 := Scalar.addi v346 c0_i32_201
  let c256_i32_202 : BitVec 32 := 256#32
  let v348 : BitVec 32 := Scalar.muli v347 c256_i32_202
  let c17_i32 : BitVec 32 := 17#32
  let v349 : BitVec 32 := Scalar.addi v348 c17_i32
  let c8_i32_206 : BitVec 32 := 8#32
  let v354 : BitVec 32 := Scalar.muli v349 c8_i32_206
  v354
def k0_off83 (i : grid0.Coords) : Fin 1 → Nat :=
  let c1_i32_203 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v350 : BitVec 32 := Scalar.subi c1_i32_203 v9
  ![v350.toNat]
def k0_off84 (i : grid0.Coords) : Fin 3 → Nat :=
  let c1_i32_203 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v350 : BitVec 32 := Scalar.subi c1_i32_203 v9
  let arg1 : BitVec 32 := BitVec.ofNat 32 (i 1).val
  let c2_i32_200 : BitVec 32 := 2#32
  let v346 : BitVec 32 := Scalar.muli arg1 c2_i32_200
  let c0_i32_201 : BitVec 32 := 0#32
  let v347 : BitVec 32 := Scalar.addi v346 c0_i32_201
  let c256_i32_202 : BitVec 32 := 256#32
  let v348 : BitVec 32 := Scalar.muli v347 c256_i32_202
  let c17_i32 : BitVec 32 := 17#32
  let v349 : BitVec 32 := Scalar.addi v348 c17_i32
  let c8_i32_206 : BitVec 32 := 8#32
  let v354 : BitVec 32 := Scalar.muli v349 c8_i32_206
  let v355 : BitVec 32 := v354
  let c0_i32_207 : BitVec 32 := 0#32
  ![v350.toNat, v355.toNat, 0]
def k0_off85 (v352 : BitVec 32) : Fin 2 → Nat :=
  let v353 : BitVec 32 := v352
  let c0_i32_208 : BitVec 32 := 0#32
  ![v353.toNat, 0]

def k0_chk19 (i : grid0.Coords) (v352 : BitVec 32) : Prop :=
  (∀ (k0_h2 : k0_cond2 i = 1#1), 8 ∣ (k0_mult37 v352).toNat) ∧
  (∀ (k0_h2 : k0_cond2 i = 1#1), ∀ a, (k0_off85 v352) a + S8x128.size a ≤ S131072x128.size a)
theorem k0_mult37_dvd : ∀ (i : grid0.Coords) (v352 : BitVec 32) (k0_hw19 : k0_chk19 i v352), ∀ (k0_h2 : k0_cond2 i = 1#1), 8 ∣ (k0_mult37 v352).toNat := fun i v352 k0_hw19 k0_h2 => k0_hw19.1 k0_h2
theorem k0_off85_inb : ∀ (i : grid0.Coords) (v352 : BitVec 32) (k0_hw19 : k0_chk19 i v352), ∀ (k0_h2 : k0_cond2 i = 1#1), ∀ a, (k0_off85 v352) a + S8x128.size a ≤ S131072x128.size a := fun i v352 k0_hw19 k0_h2 => k0_hw19.2 k0_h2

def k0_off86 (i : grid0.Coords) : Fin 3 → Nat :=
  let c0_213 : Index := 0#32
  let c0_214 : Index := 0#32
  let arg1 : BitVec 32 := BitVec.ofNat 32 (i 1).val
  let c2_i32_209 : BitVec 32 := 2#32
  let v361 : BitVec 32 := Scalar.muli arg1 c2_i32_209
  let c0_i32_210 : BitVec 32 := 0#32
  let v362 : BitVec 32 := Scalar.addi v361 c0_i32_210
  let c256_i32_211 : BitVec 32 := 256#32
  let v363 : BitVec 32 := Scalar.muli v362 c256_i32_211
  let c18_i32 : BitVec 32 := 18#32
  let v364 : BitVec 32 := Scalar.addi v363 c18_i32
  let v366 : Index := Scalar.indexCast v364
  ![0, 0, v366.toNat]
def k0_mult39 (v367 : BitVec 32) : BitVec 32 :=
  v367

def k0_mult40 (i : grid0.Coords) : BitVec 32 :=
  let arg1 : BitVec 32 := BitVec.ofNat 32 (i 1).val
  let c2_i32_209 : BitVec 32 := 2#32
  let v361 : BitVec 32 := Scalar.muli arg1 c2_i32_209
  let c0_i32_210 : BitVec 32 := 0#32
  let v362 : BitVec 32 := Scalar.addi v361 c0_i32_210
  let c256_i32_211 : BitVec 32 := 256#32
  let v363 : BitVec 32 := Scalar.muli v362 c256_i32_211
  let c18_i32 : BitVec 32 := 18#32
  let v364 : BitVec 32 := Scalar.addi v363 c18_i32
  let c8_i32_215 : BitVec 32 := 8#32
  let v369 : BitVec 32 := Scalar.muli v364 c8_i32_215
  v369
def k0_off87 (i : grid0.Coords) : Fin 1 → Nat :=
  let c1_i32_212 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v365 : BitVec 32 := Scalar.subi c1_i32_212 v9
  ![v365.toNat]
def k0_off88 (i : grid0.Coords) : Fin 3 → Nat :=
  let c1_i32_212 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v365 : BitVec 32 := Scalar.subi c1_i32_212 v9
  let arg1 : BitVec 32 := BitVec.ofNat 32 (i 1).val
  let c2_i32_209 : BitVec 32 := 2#32
  let v361 : BitVec 32 := Scalar.muli arg1 c2_i32_209
  let c0_i32_210 : BitVec 32 := 0#32
  let v362 : BitVec 32 := Scalar.addi v361 c0_i32_210
  let c256_i32_211 : BitVec 32 := 256#32
  let v363 : BitVec 32 := Scalar.muli v362 c256_i32_211
  let c18_i32 : BitVec 32 := 18#32
  let v364 : BitVec 32 := Scalar.addi v363 c18_i32
  let c8_i32_215 : BitVec 32 := 8#32
  let v369 : BitVec 32 := Scalar.muli v364 c8_i32_215
  let v370 : BitVec 32 := v369
  let c0_i32_216 : BitVec 32 := 0#32
  ![v365.toNat, v370.toNat, 0]
def k0_off89 (v367 : BitVec 32) : Fin 2 → Nat :=
  let v368 : BitVec 32 := v367
  let c0_i32_217 : BitVec 32 := 0#32
  ![v368.toNat, 0]

def k0_chk20 (i : grid0.Coords) (v367 : BitVec 32) : Prop :=
  (∀ (k0_h2 : k0_cond2 i = 1#1), 8 ∣ (k0_mult39 v367).toNat) ∧
  (∀ (k0_h2 : k0_cond2 i = 1#1), ∀ a, (k0_off89 v367) a + S8x128.size a ≤ S131072x128.size a)
theorem k0_mult39_dvd : ∀ (i : grid0.Coords) (v367 : BitVec 32) (k0_hw20 : k0_chk20 i v367), ∀ (k0_h2 : k0_cond2 i = 1#1), 8 ∣ (k0_mult39 v367).toNat := fun i v367 k0_hw20 k0_h2 => k0_hw20.1 k0_h2
theorem k0_off89_inb : ∀ (i : grid0.Coords) (v367 : BitVec 32) (k0_hw20 : k0_chk20 i v367), ∀ (k0_h2 : k0_cond2 i = 1#1), ∀ a, (k0_off89 v367) a + S8x128.size a ≤ S131072x128.size a := fun i v367 k0_hw20 k0_h2 => k0_hw20.2 k0_h2

def k0_off90 (i : grid0.Coords) : Fin 3 → Nat :=
  let c0_222 : Index := 0#32
  let c0_223 : Index := 0#32
  let arg1 : BitVec 32 := BitVec.ofNat 32 (i 1).val
  let c2_i32_218 : BitVec 32 := 2#32
  let v376 : BitVec 32 := Scalar.muli arg1 c2_i32_218
  let c0_i32_219 : BitVec 32 := 0#32
  let v377 : BitVec 32 := Scalar.addi v376 c0_i32_219
  let c256_i32_220 : BitVec 32 := 256#32
  let v378 : BitVec 32 := Scalar.muli v377 c256_i32_220
  let c19_i32 : BitVec 32 := 19#32
  let v379 : BitVec 32 := Scalar.addi v378 c19_i32
  let v381 : Index := Scalar.indexCast v379
  ![0, 0, v381.toNat]
def k0_mult41 (v382 : BitVec 32) : BitVec 32 :=
  v382

def k0_mult42 (i : grid0.Coords) : BitVec 32 :=
  let arg1 : BitVec 32 := BitVec.ofNat 32 (i 1).val
  let c2_i32_218 : BitVec 32 := 2#32
  let v376 : BitVec 32 := Scalar.muli arg1 c2_i32_218
  let c0_i32_219 : BitVec 32 := 0#32
  let v377 : BitVec 32 := Scalar.addi v376 c0_i32_219
  let c256_i32_220 : BitVec 32 := 256#32
  let v378 : BitVec 32 := Scalar.muli v377 c256_i32_220
  let c19_i32 : BitVec 32 := 19#32
  let v379 : BitVec 32 := Scalar.addi v378 c19_i32
  let c8_i32_224 : BitVec 32 := 8#32
  let v384 : BitVec 32 := Scalar.muli v379 c8_i32_224
  v384
def k0_off91 (i : grid0.Coords) : Fin 1 → Nat :=
  let c1_i32_221 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v380 : BitVec 32 := Scalar.subi c1_i32_221 v9
  ![v380.toNat]
def k0_off92 (i : grid0.Coords) : Fin 3 → Nat :=
  let c1_i32_221 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v380 : BitVec 32 := Scalar.subi c1_i32_221 v9
  let arg1 : BitVec 32 := BitVec.ofNat 32 (i 1).val
  let c2_i32_218 : BitVec 32 := 2#32
  let v376 : BitVec 32 := Scalar.muli arg1 c2_i32_218
  let c0_i32_219 : BitVec 32 := 0#32
  let v377 : BitVec 32 := Scalar.addi v376 c0_i32_219
  let c256_i32_220 : BitVec 32 := 256#32
  let v378 : BitVec 32 := Scalar.muli v377 c256_i32_220
  let c19_i32 : BitVec 32 := 19#32
  let v379 : BitVec 32 := Scalar.addi v378 c19_i32
  let c8_i32_224 : BitVec 32 := 8#32
  let v384 : BitVec 32 := Scalar.muli v379 c8_i32_224
  let v385 : BitVec 32 := v384
  let c0_i32_225 : BitVec 32 := 0#32
  ![v380.toNat, v385.toNat, 0]
def k0_off93 (v382 : BitVec 32) : Fin 2 → Nat :=
  let v383 : BitVec 32 := v382
  let c0_i32_226 : BitVec 32 := 0#32
  ![v383.toNat, 0]

def k0_chk21 (i : grid0.Coords) (v382 : BitVec 32) : Prop :=
  (∀ (k0_h2 : k0_cond2 i = 1#1), 8 ∣ (k0_mult41 v382).toNat) ∧
  (∀ (k0_h2 : k0_cond2 i = 1#1), ∀ a, (k0_off93 v382) a + S8x128.size a ≤ S131072x128.size a)
theorem k0_mult41_dvd : ∀ (i : grid0.Coords) (v382 : BitVec 32) (k0_hw21 : k0_chk21 i v382), ∀ (k0_h2 : k0_cond2 i = 1#1), 8 ∣ (k0_mult41 v382).toNat := fun i v382 k0_hw21 k0_h2 => k0_hw21.1 k0_h2
theorem k0_off93_inb : ∀ (i : grid0.Coords) (v382 : BitVec 32) (k0_hw21 : k0_chk21 i v382), ∀ (k0_h2 : k0_cond2 i = 1#1), ∀ a, (k0_off93 v382) a + S8x128.size a ≤ S131072x128.size a := fun i v382 k0_hw21 k0_h2 => k0_hw21.2 k0_h2

def k0_off94 (i : grid0.Coords) : Fin 3 → Nat :=
  let c0_231 : Index := 0#32
  let c0_232 : Index := 0#32
  let arg1 : BitVec 32 := BitVec.ofNat 32 (i 1).val
  let c2_i32_227 : BitVec 32 := 2#32
  let v391 : BitVec 32 := Scalar.muli arg1 c2_i32_227
  let c0_i32_228 : BitVec 32 := 0#32
  let v392 : BitVec 32 := Scalar.addi v391 c0_i32_228
  let c256_i32_229 : BitVec 32 := 256#32
  let v393 : BitVec 32 := Scalar.muli v392 c256_i32_229
  let c20_i32 : BitVec 32 := 20#32
  let v394 : BitVec 32 := Scalar.addi v393 c20_i32
  let v396 : Index := Scalar.indexCast v394
  ![0, 0, v396.toNat]
def k0_mult43 (v397 : BitVec 32) : BitVec 32 :=
  v397

def k0_mult44 (i : grid0.Coords) : BitVec 32 :=
  let arg1 : BitVec 32 := BitVec.ofNat 32 (i 1).val
  let c2_i32_227 : BitVec 32 := 2#32
  let v391 : BitVec 32 := Scalar.muli arg1 c2_i32_227
  let c0_i32_228 : BitVec 32 := 0#32
  let v392 : BitVec 32 := Scalar.addi v391 c0_i32_228
  let c256_i32_229 : BitVec 32 := 256#32
  let v393 : BitVec 32 := Scalar.muli v392 c256_i32_229
  let c20_i32 : BitVec 32 := 20#32
  let v394 : BitVec 32 := Scalar.addi v393 c20_i32
  let c8_i32_233 : BitVec 32 := 8#32
  let v399 : BitVec 32 := Scalar.muli v394 c8_i32_233
  v399
def k0_off95 (i : grid0.Coords) : Fin 1 → Nat :=
  let c1_i32_230 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v395 : BitVec 32 := Scalar.subi c1_i32_230 v9
  ![v395.toNat]
def k0_off96 (i : grid0.Coords) : Fin 3 → Nat :=
  let c1_i32_230 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v395 : BitVec 32 := Scalar.subi c1_i32_230 v9
  let arg1 : BitVec 32 := BitVec.ofNat 32 (i 1).val
  let c2_i32_227 : BitVec 32 := 2#32
  let v391 : BitVec 32 := Scalar.muli arg1 c2_i32_227
  let c0_i32_228 : BitVec 32 := 0#32
  let v392 : BitVec 32 := Scalar.addi v391 c0_i32_228
  let c256_i32_229 : BitVec 32 := 256#32
  let v393 : BitVec 32 := Scalar.muli v392 c256_i32_229
  let c20_i32 : BitVec 32 := 20#32
  let v394 : BitVec 32 := Scalar.addi v393 c20_i32
  let c8_i32_233 : BitVec 32 := 8#32
  let v399 : BitVec 32 := Scalar.muli v394 c8_i32_233
  let v400 : BitVec 32 := v399
  let c0_i32_234 : BitVec 32 := 0#32
  ![v395.toNat, v400.toNat, 0]
def k0_off97 (v397 : BitVec 32) : Fin 2 → Nat :=
  let v398 : BitVec 32 := v397
  let c0_i32_235 : BitVec 32 := 0#32
  ![v398.toNat, 0]

def k0_chk22 (i : grid0.Coords) (v397 : BitVec 32) : Prop :=
  (∀ (k0_h2 : k0_cond2 i = 1#1), 8 ∣ (k0_mult43 v397).toNat) ∧
  (∀ (k0_h2 : k0_cond2 i = 1#1), ∀ a, (k0_off97 v397) a + S8x128.size a ≤ S131072x128.size a)
theorem k0_mult43_dvd : ∀ (i : grid0.Coords) (v397 : BitVec 32) (k0_hw22 : k0_chk22 i v397), ∀ (k0_h2 : k0_cond2 i = 1#1), 8 ∣ (k0_mult43 v397).toNat := fun i v397 k0_hw22 k0_h2 => k0_hw22.1 k0_h2
theorem k0_off97_inb : ∀ (i : grid0.Coords) (v397 : BitVec 32) (k0_hw22 : k0_chk22 i v397), ∀ (k0_h2 : k0_cond2 i = 1#1), ∀ a, (k0_off97 v397) a + S8x128.size a ≤ S131072x128.size a := fun i v397 k0_hw22 k0_h2 => k0_hw22.2 k0_h2

def k0_off98 (i : grid0.Coords) : Fin 3 → Nat :=
  let c0_240 : Index := 0#32
  let c0_241 : Index := 0#32
  let arg1 : BitVec 32 := BitVec.ofNat 32 (i 1).val
  let c2_i32_236 : BitVec 32 := 2#32
  let v406 : BitVec 32 := Scalar.muli arg1 c2_i32_236
  let c0_i32_237 : BitVec 32 := 0#32
  let v407 : BitVec 32 := Scalar.addi v406 c0_i32_237
  let c256_i32_238 : BitVec 32 := 256#32
  let v408 : BitVec 32 := Scalar.muli v407 c256_i32_238
  let c21_i32 : BitVec 32 := 21#32
  let v409 : BitVec 32 := Scalar.addi v408 c21_i32
  let v411 : Index := Scalar.indexCast v409
  ![0, 0, v411.toNat]
def k0_mult45 (v412 : BitVec 32) : BitVec 32 :=
  v412

def k0_mult46 (i : grid0.Coords) : BitVec 32 :=
  let arg1 : BitVec 32 := BitVec.ofNat 32 (i 1).val
  let c2_i32_236 : BitVec 32 := 2#32
  let v406 : BitVec 32 := Scalar.muli arg1 c2_i32_236
  let c0_i32_237 : BitVec 32 := 0#32
  let v407 : BitVec 32 := Scalar.addi v406 c0_i32_237
  let c256_i32_238 : BitVec 32 := 256#32
  let v408 : BitVec 32 := Scalar.muli v407 c256_i32_238
  let c21_i32 : BitVec 32 := 21#32
  let v409 : BitVec 32 := Scalar.addi v408 c21_i32
  let c8_i32_242 : BitVec 32 := 8#32
  let v414 : BitVec 32 := Scalar.muli v409 c8_i32_242
  v414
def k0_off99 (i : grid0.Coords) : Fin 1 → Nat :=
  let c1_i32_239 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v410 : BitVec 32 := Scalar.subi c1_i32_239 v9
  ![v410.toNat]
def k0_off100 (i : grid0.Coords) : Fin 3 → Nat :=
  let c1_i32_239 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v410 : BitVec 32 := Scalar.subi c1_i32_239 v9
  let arg1 : BitVec 32 := BitVec.ofNat 32 (i 1).val
  let c2_i32_236 : BitVec 32 := 2#32
  let v406 : BitVec 32 := Scalar.muli arg1 c2_i32_236
  let c0_i32_237 : BitVec 32 := 0#32
  let v407 : BitVec 32 := Scalar.addi v406 c0_i32_237
  let c256_i32_238 : BitVec 32 := 256#32
  let v408 : BitVec 32 := Scalar.muli v407 c256_i32_238
  let c21_i32 : BitVec 32 := 21#32
  let v409 : BitVec 32 := Scalar.addi v408 c21_i32
  let c8_i32_242 : BitVec 32 := 8#32
  let v414 : BitVec 32 := Scalar.muli v409 c8_i32_242
  let v415 : BitVec 32 := v414
  let c0_i32_243 : BitVec 32 := 0#32
  ![v410.toNat, v415.toNat, 0]
def k0_off101 (v412 : BitVec 32) : Fin 2 → Nat :=
  let v413 : BitVec 32 := v412
  let c0_i32_244 : BitVec 32 := 0#32
  ![v413.toNat, 0]

def k0_chk23 (i : grid0.Coords) (v412 : BitVec 32) : Prop :=
  (∀ (k0_h2 : k0_cond2 i = 1#1), 8 ∣ (k0_mult45 v412).toNat) ∧
  (∀ (k0_h2 : k0_cond2 i = 1#1), ∀ a, (k0_off101 v412) a + S8x128.size a ≤ S131072x128.size a)
theorem k0_mult45_dvd : ∀ (i : grid0.Coords) (v412 : BitVec 32) (k0_hw23 : k0_chk23 i v412), ∀ (k0_h2 : k0_cond2 i = 1#1), 8 ∣ (k0_mult45 v412).toNat := fun i v412 k0_hw23 k0_h2 => k0_hw23.1 k0_h2
theorem k0_off101_inb : ∀ (i : grid0.Coords) (v412 : BitVec 32) (k0_hw23 : k0_chk23 i v412), ∀ (k0_h2 : k0_cond2 i = 1#1), ∀ a, (k0_off101 v412) a + S8x128.size a ≤ S131072x128.size a := fun i v412 k0_hw23 k0_h2 => k0_hw23.2 k0_h2

def k0_off102 (i : grid0.Coords) : Fin 3 → Nat :=
  let c0_249 : Index := 0#32
  let c0_250 : Index := 0#32
  let arg1 : BitVec 32 := BitVec.ofNat 32 (i 1).val
  let c2_i32_245 : BitVec 32 := 2#32
  let v421 : BitVec 32 := Scalar.muli arg1 c2_i32_245
  let c0_i32_246 : BitVec 32 := 0#32
  let v422 : BitVec 32 := Scalar.addi v421 c0_i32_246
  let c256_i32_247 : BitVec 32 := 256#32
  let v423 : BitVec 32 := Scalar.muli v422 c256_i32_247
  let c22_i32 : BitVec 32 := 22#32
  let v424 : BitVec 32 := Scalar.addi v423 c22_i32
  let v426 : Index := Scalar.indexCast v424
  ![0, 0, v426.toNat]
def k0_mult47 (v427 : BitVec 32) : BitVec 32 :=
  v427

def k0_mult48 (i : grid0.Coords) : BitVec 32 :=
  let arg1 : BitVec 32 := BitVec.ofNat 32 (i 1).val
  let c2_i32_245 : BitVec 32 := 2#32
  let v421 : BitVec 32 := Scalar.muli arg1 c2_i32_245
  let c0_i32_246 : BitVec 32 := 0#32
  let v422 : BitVec 32 := Scalar.addi v421 c0_i32_246
  let c256_i32_247 : BitVec 32 := 256#32
  let v423 : BitVec 32 := Scalar.muli v422 c256_i32_247
  let c22_i32 : BitVec 32 := 22#32
  let v424 : BitVec 32 := Scalar.addi v423 c22_i32
  let c8_i32_251 : BitVec 32 := 8#32
  let v429 : BitVec 32 := Scalar.muli v424 c8_i32_251
  v429
def k0_off103 (i : grid0.Coords) : Fin 1 → Nat :=
  let c1_i32_248 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v425 : BitVec 32 := Scalar.subi c1_i32_248 v9
  ![v425.toNat]
def k0_off104 (i : grid0.Coords) : Fin 3 → Nat :=
  let c1_i32_248 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v425 : BitVec 32 := Scalar.subi c1_i32_248 v9
  let arg1 : BitVec 32 := BitVec.ofNat 32 (i 1).val
  let c2_i32_245 : BitVec 32 := 2#32
  let v421 : BitVec 32 := Scalar.muli arg1 c2_i32_245
  let c0_i32_246 : BitVec 32 := 0#32
  let v422 : BitVec 32 := Scalar.addi v421 c0_i32_246
  let c256_i32_247 : BitVec 32 := 256#32
  let v423 : BitVec 32 := Scalar.muli v422 c256_i32_247
  let c22_i32 : BitVec 32 := 22#32
  let v424 : BitVec 32 := Scalar.addi v423 c22_i32
  let c8_i32_251 : BitVec 32 := 8#32
  let v429 : BitVec 32 := Scalar.muli v424 c8_i32_251
  let v430 : BitVec 32 := v429
  let c0_i32_252 : BitVec 32 := 0#32
  ![v425.toNat, v430.toNat, 0]
def k0_off105 (v427 : BitVec 32) : Fin 2 → Nat :=
  let v428 : BitVec 32 := v427
  let c0_i32_253 : BitVec 32 := 0#32
  ![v428.toNat, 0]

def k0_chk24 (i : grid0.Coords) (v427 : BitVec 32) : Prop :=
  (∀ (k0_h2 : k0_cond2 i = 1#1), 8 ∣ (k0_mult47 v427).toNat) ∧
  (∀ (k0_h2 : k0_cond2 i = 1#1), ∀ a, (k0_off105 v427) a + S8x128.size a ≤ S131072x128.size a)
theorem k0_mult47_dvd : ∀ (i : grid0.Coords) (v427 : BitVec 32) (k0_hw24 : k0_chk24 i v427), ∀ (k0_h2 : k0_cond2 i = 1#1), 8 ∣ (k0_mult47 v427).toNat := fun i v427 k0_hw24 k0_h2 => k0_hw24.1 k0_h2
theorem k0_off105_inb : ∀ (i : grid0.Coords) (v427 : BitVec 32) (k0_hw24 : k0_chk24 i v427), ∀ (k0_h2 : k0_cond2 i = 1#1), ∀ a, (k0_off105 v427) a + S8x128.size a ≤ S131072x128.size a := fun i v427 k0_hw24 k0_h2 => k0_hw24.2 k0_h2

def k0_off106 (i : grid0.Coords) : Fin 3 → Nat :=
  let c0_258 : Index := 0#32
  let c0_259 : Index := 0#32
  let arg1 : BitVec 32 := BitVec.ofNat 32 (i 1).val
  let c2_i32_254 : BitVec 32 := 2#32
  let v436 : BitVec 32 := Scalar.muli arg1 c2_i32_254
  let c0_i32_255 : BitVec 32 := 0#32
  let v437 : BitVec 32 := Scalar.addi v436 c0_i32_255
  let c256_i32_256 : BitVec 32 := 256#32
  let v438 : BitVec 32 := Scalar.muli v437 c256_i32_256
  let c23_i32 : BitVec 32 := 23#32
  let v439 : BitVec 32 := Scalar.addi v438 c23_i32
  let v441 : Index := Scalar.indexCast v439
  ![0, 0, v441.toNat]
def k0_mult49 (v442 : BitVec 32) : BitVec 32 :=
  v442

def k0_mult50 (i : grid0.Coords) : BitVec 32 :=
  let arg1 : BitVec 32 := BitVec.ofNat 32 (i 1).val
  let c2_i32_254 : BitVec 32 := 2#32
  let v436 : BitVec 32 := Scalar.muli arg1 c2_i32_254
  let c0_i32_255 : BitVec 32 := 0#32
  let v437 : BitVec 32 := Scalar.addi v436 c0_i32_255
  let c256_i32_256 : BitVec 32 := 256#32
  let v438 : BitVec 32 := Scalar.muli v437 c256_i32_256
  let c23_i32 : BitVec 32 := 23#32
  let v439 : BitVec 32 := Scalar.addi v438 c23_i32
  let c8_i32_260 : BitVec 32 := 8#32
  let v444 : BitVec 32 := Scalar.muli v439 c8_i32_260
  v444
def k0_off107 (i : grid0.Coords) : Fin 1 → Nat :=
  let c1_i32_257 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v440 : BitVec 32 := Scalar.subi c1_i32_257 v9
  ![v440.toNat]
def k0_off108 (i : grid0.Coords) : Fin 3 → Nat :=
  let c1_i32_257 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v440 : BitVec 32 := Scalar.subi c1_i32_257 v9
  let arg1 : BitVec 32 := BitVec.ofNat 32 (i 1).val
  let c2_i32_254 : BitVec 32 := 2#32
  let v436 : BitVec 32 := Scalar.muli arg1 c2_i32_254
  let c0_i32_255 : BitVec 32 := 0#32
  let v437 : BitVec 32 := Scalar.addi v436 c0_i32_255
  let c256_i32_256 : BitVec 32 := 256#32
  let v438 : BitVec 32 := Scalar.muli v437 c256_i32_256
  let c23_i32 : BitVec 32 := 23#32
  let v439 : BitVec 32 := Scalar.addi v438 c23_i32
  let c8_i32_260 : BitVec 32 := 8#32
  let v444 : BitVec 32 := Scalar.muli v439 c8_i32_260
  let v445 : BitVec 32 := v444
  let c0_i32_261 : BitVec 32 := 0#32
  ![v440.toNat, v445.toNat, 0]
def k0_off109 (v442 : BitVec 32) : Fin 2 → Nat :=
  let v443 : BitVec 32 := v442
  let c0_i32_262 : BitVec 32 := 0#32
  ![v443.toNat, 0]

def k0_chk25 (i : grid0.Coords) (v442 : BitVec 32) : Prop :=
  (∀ (k0_h2 : k0_cond2 i = 1#1), 8 ∣ (k0_mult49 v442).toNat) ∧
  (∀ (k0_h2 : k0_cond2 i = 1#1), ∀ a, (k0_off109 v442) a + S8x128.size a ≤ S131072x128.size a)
theorem k0_mult49_dvd : ∀ (i : grid0.Coords) (v442 : BitVec 32) (k0_hw25 : k0_chk25 i v442), ∀ (k0_h2 : k0_cond2 i = 1#1), 8 ∣ (k0_mult49 v442).toNat := fun i v442 k0_hw25 k0_h2 => k0_hw25.1 k0_h2
theorem k0_off109_inb : ∀ (i : grid0.Coords) (v442 : BitVec 32) (k0_hw25 : k0_chk25 i v442), ∀ (k0_h2 : k0_cond2 i = 1#1), ∀ a, (k0_off109 v442) a + S8x128.size a ≤ S131072x128.size a := fun i v442 k0_hw25 k0_h2 => k0_hw25.2 k0_h2

def k0_off110 (i : grid0.Coords) : Fin 3 → Nat :=
  let c0_267 : Index := 0#32
  let c0_268 : Index := 0#32
  let arg1 : BitVec 32 := BitVec.ofNat 32 (i 1).val
  let c2_i32_263 : BitVec 32 := 2#32
  let v451 : BitVec 32 := Scalar.muli arg1 c2_i32_263
  let c0_i32_264 : BitVec 32 := 0#32
  let v452 : BitVec 32 := Scalar.addi v451 c0_i32_264
  let c256_i32_265 : BitVec 32 := 256#32
  let v453 : BitVec 32 := Scalar.muli v452 c256_i32_265
  let c24_i32 : BitVec 32 := 24#32
  let v454 : BitVec 32 := Scalar.addi v453 c24_i32
  let v456 : Index := Scalar.indexCast v454
  ![0, 0, v456.toNat]
def k0_mult51 (v457 : BitVec 32) : BitVec 32 :=
  v457

def k0_mult52 (i : grid0.Coords) : BitVec 32 :=
  let arg1 : BitVec 32 := BitVec.ofNat 32 (i 1).val
  let c2_i32_263 : BitVec 32 := 2#32
  let v451 : BitVec 32 := Scalar.muli arg1 c2_i32_263
  let c0_i32_264 : BitVec 32 := 0#32
  let v452 : BitVec 32 := Scalar.addi v451 c0_i32_264
  let c256_i32_265 : BitVec 32 := 256#32
  let v453 : BitVec 32 := Scalar.muli v452 c256_i32_265
  let c24_i32 : BitVec 32 := 24#32
  let v454 : BitVec 32 := Scalar.addi v453 c24_i32
  let c8_i32_269 : BitVec 32 := 8#32
  let v459 : BitVec 32 := Scalar.muli v454 c8_i32_269
  v459
def k0_off111 (i : grid0.Coords) : Fin 1 → Nat :=
  let c1_i32_266 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v455 : BitVec 32 := Scalar.subi c1_i32_266 v9
  ![v455.toNat]
def k0_off112 (i : grid0.Coords) : Fin 3 → Nat :=
  let c1_i32_266 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v455 : BitVec 32 := Scalar.subi c1_i32_266 v9
  let arg1 : BitVec 32 := BitVec.ofNat 32 (i 1).val
  let c2_i32_263 : BitVec 32 := 2#32
  let v451 : BitVec 32 := Scalar.muli arg1 c2_i32_263
  let c0_i32_264 : BitVec 32 := 0#32
  let v452 : BitVec 32 := Scalar.addi v451 c0_i32_264
  let c256_i32_265 : BitVec 32 := 256#32
  let v453 : BitVec 32 := Scalar.muli v452 c256_i32_265
  let c24_i32 : BitVec 32 := 24#32
  let v454 : BitVec 32 := Scalar.addi v453 c24_i32
  let c8_i32_269 : BitVec 32 := 8#32
  let v459 : BitVec 32 := Scalar.muli v454 c8_i32_269
  let v460 : BitVec 32 := v459
  let c0_i32_270 : BitVec 32 := 0#32
  ![v455.toNat, v460.toNat, 0]
def k0_off113 (v457 : BitVec 32) : Fin 2 → Nat :=
  let v458 : BitVec 32 := v457
  let c0_i32_271 : BitVec 32 := 0#32
  ![v458.toNat, 0]

def k0_chk26 (i : grid0.Coords) (v457 : BitVec 32) : Prop :=
  (∀ (k0_h2 : k0_cond2 i = 1#1), 8 ∣ (k0_mult51 v457).toNat) ∧
  (∀ (k0_h2 : k0_cond2 i = 1#1), ∀ a, (k0_off113 v457) a + S8x128.size a ≤ S131072x128.size a)
theorem k0_mult51_dvd : ∀ (i : grid0.Coords) (v457 : BitVec 32) (k0_hw26 : k0_chk26 i v457), ∀ (k0_h2 : k0_cond2 i = 1#1), 8 ∣ (k0_mult51 v457).toNat := fun i v457 k0_hw26 k0_h2 => k0_hw26.1 k0_h2
theorem k0_off113_inb : ∀ (i : grid0.Coords) (v457 : BitVec 32) (k0_hw26 : k0_chk26 i v457), ∀ (k0_h2 : k0_cond2 i = 1#1), ∀ a, (k0_off113 v457) a + S8x128.size a ≤ S131072x128.size a := fun i v457 k0_hw26 k0_h2 => k0_hw26.2 k0_h2

def k0_off114 (i : grid0.Coords) : Fin 3 → Nat :=
  let c0_276 : Index := 0#32
  let c0_277 : Index := 0#32
  let arg1 : BitVec 32 := BitVec.ofNat 32 (i 1).val
  let c2_i32_272 : BitVec 32 := 2#32
  let v466 : BitVec 32 := Scalar.muli arg1 c2_i32_272
  let c0_i32_273 : BitVec 32 := 0#32
  let v467 : BitVec 32 := Scalar.addi v466 c0_i32_273
  let c256_i32_274 : BitVec 32 := 256#32
  let v468 : BitVec 32 := Scalar.muli v467 c256_i32_274
  let c25_i32 : BitVec 32 := 25#32
  let v469 : BitVec 32 := Scalar.addi v468 c25_i32
  let v471 : Index := Scalar.indexCast v469
  ![0, 0, v471.toNat]
def k0_mult53 (v472 : BitVec 32) : BitVec 32 :=
  v472

def k0_mult54 (i : grid0.Coords) : BitVec 32 :=
  let arg1 : BitVec 32 := BitVec.ofNat 32 (i 1).val
  let c2_i32_272 : BitVec 32 := 2#32
  let v466 : BitVec 32 := Scalar.muli arg1 c2_i32_272
  let c0_i32_273 : BitVec 32 := 0#32
  let v467 : BitVec 32 := Scalar.addi v466 c0_i32_273
  let c256_i32_274 : BitVec 32 := 256#32
  let v468 : BitVec 32 := Scalar.muli v467 c256_i32_274
  let c25_i32 : BitVec 32 := 25#32
  let v469 : BitVec 32 := Scalar.addi v468 c25_i32
  let c8_i32_278 : BitVec 32 := 8#32
  let v474 : BitVec 32 := Scalar.muli v469 c8_i32_278
  v474
def k0_off115 (i : grid0.Coords) : Fin 1 → Nat :=
  let c1_i32_275 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v470 : BitVec 32 := Scalar.subi c1_i32_275 v9
  ![v470.toNat]
def k0_off116 (i : grid0.Coords) : Fin 3 → Nat :=
  let c1_i32_275 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v470 : BitVec 32 := Scalar.subi c1_i32_275 v9
  let arg1 : BitVec 32 := BitVec.ofNat 32 (i 1).val
  let c2_i32_272 : BitVec 32 := 2#32
  let v466 : BitVec 32 := Scalar.muli arg1 c2_i32_272
  let c0_i32_273 : BitVec 32 := 0#32
  let v467 : BitVec 32 := Scalar.addi v466 c0_i32_273
  let c256_i32_274 : BitVec 32 := 256#32
  let v468 : BitVec 32 := Scalar.muli v467 c256_i32_274
  let c25_i32 : BitVec 32 := 25#32
  let v469 : BitVec 32 := Scalar.addi v468 c25_i32
  let c8_i32_278 : BitVec 32 := 8#32
  let v474 : BitVec 32 := Scalar.muli v469 c8_i32_278
  let v475 : BitVec 32 := v474
  let c0_i32_279 : BitVec 32 := 0#32
  ![v470.toNat, v475.toNat, 0]
def k0_off117 (v472 : BitVec 32) : Fin 2 → Nat :=
  let v473 : BitVec 32 := v472
  let c0_i32_280 : BitVec 32 := 0#32
  ![v473.toNat, 0]

def k0_chk27 (i : grid0.Coords) (v472 : BitVec 32) : Prop :=
  (∀ (k0_h2 : k0_cond2 i = 1#1), 8 ∣ (k0_mult53 v472).toNat) ∧
  (∀ (k0_h2 : k0_cond2 i = 1#1), ∀ a, (k0_off117 v472) a + S8x128.size a ≤ S131072x128.size a)
theorem k0_mult53_dvd : ∀ (i : grid0.Coords) (v472 : BitVec 32) (k0_hw27 : k0_chk27 i v472), ∀ (k0_h2 : k0_cond2 i = 1#1), 8 ∣ (k0_mult53 v472).toNat := fun i v472 k0_hw27 k0_h2 => k0_hw27.1 k0_h2
theorem k0_off117_inb : ∀ (i : grid0.Coords) (v472 : BitVec 32) (k0_hw27 : k0_chk27 i v472), ∀ (k0_h2 : k0_cond2 i = 1#1), ∀ a, (k0_off117 v472) a + S8x128.size a ≤ S131072x128.size a := fun i v472 k0_hw27 k0_h2 => k0_hw27.2 k0_h2

def k0_off118 (i : grid0.Coords) : Fin 3 → Nat :=
  let c0_285 : Index := 0#32
  let c0_286 : Index := 0#32
  let arg1 : BitVec 32 := BitVec.ofNat 32 (i 1).val
  let c2_i32_281 : BitVec 32 := 2#32
  let v481 : BitVec 32 := Scalar.muli arg1 c2_i32_281
  let c0_i32_282 : BitVec 32 := 0#32
  let v482 : BitVec 32 := Scalar.addi v481 c0_i32_282
  let c256_i32_283 : BitVec 32 := 256#32
  let v483 : BitVec 32 := Scalar.muli v482 c256_i32_283
  let c26_i32 : BitVec 32 := 26#32
  let v484 : BitVec 32 := Scalar.addi v483 c26_i32
  let v486 : Index := Scalar.indexCast v484
  ![0, 0, v486.toNat]
def k0_mult55 (v487 : BitVec 32) : BitVec 32 :=
  v487

def k0_mult56 (i : grid0.Coords) : BitVec 32 :=
  let arg1 : BitVec 32 := BitVec.ofNat 32 (i 1).val
  let c2_i32_281 : BitVec 32 := 2#32
  let v481 : BitVec 32 := Scalar.muli arg1 c2_i32_281
  let c0_i32_282 : BitVec 32 := 0#32
  let v482 : BitVec 32 := Scalar.addi v481 c0_i32_282
  let c256_i32_283 : BitVec 32 := 256#32
  let v483 : BitVec 32 := Scalar.muli v482 c256_i32_283
  let c26_i32 : BitVec 32 := 26#32
  let v484 : BitVec 32 := Scalar.addi v483 c26_i32
  let c8_i32_287 : BitVec 32 := 8#32
  let v489 : BitVec 32 := Scalar.muli v484 c8_i32_287
  v489
def k0_off119 (i : grid0.Coords) : Fin 1 → Nat :=
  let c1_i32_284 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v485 : BitVec 32 := Scalar.subi c1_i32_284 v9
  ![v485.toNat]
def k0_off120 (i : grid0.Coords) : Fin 3 → Nat :=
  let c1_i32_284 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v485 : BitVec 32 := Scalar.subi c1_i32_284 v9
  let arg1 : BitVec 32 := BitVec.ofNat 32 (i 1).val
  let c2_i32_281 : BitVec 32 := 2#32
  let v481 : BitVec 32 := Scalar.muli arg1 c2_i32_281
  let c0_i32_282 : BitVec 32 := 0#32
  let v482 : BitVec 32 := Scalar.addi v481 c0_i32_282
  let c256_i32_283 : BitVec 32 := 256#32
  let v483 : BitVec 32 := Scalar.muli v482 c256_i32_283
  let c26_i32 : BitVec 32 := 26#32
  let v484 : BitVec 32 := Scalar.addi v483 c26_i32
  let c8_i32_287 : BitVec 32 := 8#32
  let v489 : BitVec 32 := Scalar.muli v484 c8_i32_287
  let v490 : BitVec 32 := v489
  let c0_i32_288 : BitVec 32 := 0#32
  ![v485.toNat, v490.toNat, 0]
def k0_off121 (v487 : BitVec 32) : Fin 2 → Nat :=
  let v488 : BitVec 32 := v487
  let c0_i32_289 : BitVec 32 := 0#32
  ![v488.toNat, 0]

def k0_chk28 (i : grid0.Coords) (v487 : BitVec 32) : Prop :=
  (∀ (k0_h2 : k0_cond2 i = 1#1), 8 ∣ (k0_mult55 v487).toNat) ∧
  (∀ (k0_h2 : k0_cond2 i = 1#1), ∀ a, (k0_off121 v487) a + S8x128.size a ≤ S131072x128.size a)
theorem k0_mult55_dvd : ∀ (i : grid0.Coords) (v487 : BitVec 32) (k0_hw28 : k0_chk28 i v487), ∀ (k0_h2 : k0_cond2 i = 1#1), 8 ∣ (k0_mult55 v487).toNat := fun i v487 k0_hw28 k0_h2 => k0_hw28.1 k0_h2
theorem k0_off121_inb : ∀ (i : grid0.Coords) (v487 : BitVec 32) (k0_hw28 : k0_chk28 i v487), ∀ (k0_h2 : k0_cond2 i = 1#1), ∀ a, (k0_off121 v487) a + S8x128.size a ≤ S131072x128.size a := fun i v487 k0_hw28 k0_h2 => k0_hw28.2 k0_h2

def k0_off122 (i : grid0.Coords) : Fin 3 → Nat :=
  let c0_294 : Index := 0#32
  let c0_295 : Index := 0#32
  let arg1 : BitVec 32 := BitVec.ofNat 32 (i 1).val
  let c2_i32_290 : BitVec 32 := 2#32
  let v496 : BitVec 32 := Scalar.muli arg1 c2_i32_290
  let c0_i32_291 : BitVec 32 := 0#32
  let v497 : BitVec 32 := Scalar.addi v496 c0_i32_291
  let c256_i32_292 : BitVec 32 := 256#32
  let v498 : BitVec 32 := Scalar.muli v497 c256_i32_292
  let c27_i32 : BitVec 32 := 27#32
  let v499 : BitVec 32 := Scalar.addi v498 c27_i32
  let v501 : Index := Scalar.indexCast v499
  ![0, 0, v501.toNat]
def k0_mult57 (v502 : BitVec 32) : BitVec 32 :=
  v502

def k0_mult58 (i : grid0.Coords) : BitVec 32 :=
  let arg1 : BitVec 32 := BitVec.ofNat 32 (i 1).val
  let c2_i32_290 : BitVec 32 := 2#32
  let v496 : BitVec 32 := Scalar.muli arg1 c2_i32_290
  let c0_i32_291 : BitVec 32 := 0#32
  let v497 : BitVec 32 := Scalar.addi v496 c0_i32_291
  let c256_i32_292 : BitVec 32 := 256#32
  let v498 : BitVec 32 := Scalar.muli v497 c256_i32_292
  let c27_i32 : BitVec 32 := 27#32
  let v499 : BitVec 32 := Scalar.addi v498 c27_i32
  let c8_i32_296 : BitVec 32 := 8#32
  let v504 : BitVec 32 := Scalar.muli v499 c8_i32_296
  v504
def k0_off123 (i : grid0.Coords) : Fin 1 → Nat :=
  let c1_i32_293 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v500 : BitVec 32 := Scalar.subi c1_i32_293 v9
  ![v500.toNat]
def k0_off124 (i : grid0.Coords) : Fin 3 → Nat :=
  let c1_i32_293 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v500 : BitVec 32 := Scalar.subi c1_i32_293 v9
  let arg1 : BitVec 32 := BitVec.ofNat 32 (i 1).val
  let c2_i32_290 : BitVec 32 := 2#32
  let v496 : BitVec 32 := Scalar.muli arg1 c2_i32_290
  let c0_i32_291 : BitVec 32 := 0#32
  let v497 : BitVec 32 := Scalar.addi v496 c0_i32_291
  let c256_i32_292 : BitVec 32 := 256#32
  let v498 : BitVec 32 := Scalar.muli v497 c256_i32_292
  let c27_i32 : BitVec 32 := 27#32
  let v499 : BitVec 32 := Scalar.addi v498 c27_i32
  let c8_i32_296 : BitVec 32 := 8#32
  let v504 : BitVec 32 := Scalar.muli v499 c8_i32_296
  let v505 : BitVec 32 := v504
  let c0_i32_297 : BitVec 32 := 0#32
  ![v500.toNat, v505.toNat, 0]
def k0_off125 (v502 : BitVec 32) : Fin 2 → Nat :=
  let v503 : BitVec 32 := v502
  let c0_i32_298 : BitVec 32 := 0#32
  ![v503.toNat, 0]

def k0_chk29 (i : grid0.Coords) (v502 : BitVec 32) : Prop :=
  (∀ (k0_h2 : k0_cond2 i = 1#1), 8 ∣ (k0_mult57 v502).toNat) ∧
  (∀ (k0_h2 : k0_cond2 i = 1#1), ∀ a, (k0_off125 v502) a + S8x128.size a ≤ S131072x128.size a)
theorem k0_mult57_dvd : ∀ (i : grid0.Coords) (v502 : BitVec 32) (k0_hw29 : k0_chk29 i v502), ∀ (k0_h2 : k0_cond2 i = 1#1), 8 ∣ (k0_mult57 v502).toNat := fun i v502 k0_hw29 k0_h2 => k0_hw29.1 k0_h2
theorem k0_off125_inb : ∀ (i : grid0.Coords) (v502 : BitVec 32) (k0_hw29 : k0_chk29 i v502), ∀ (k0_h2 : k0_cond2 i = 1#1), ∀ a, (k0_off125 v502) a + S8x128.size a ≤ S131072x128.size a := fun i v502 k0_hw29 k0_h2 => k0_hw29.2 k0_h2

def k0_off126 (i : grid0.Coords) : Fin 3 → Nat :=
  let c0_303 : Index := 0#32
  let c0_304 : Index := 0#32
  let arg1 : BitVec 32 := BitVec.ofNat 32 (i 1).val
  let c2_i32_299 : BitVec 32 := 2#32
  let v511 : BitVec 32 := Scalar.muli arg1 c2_i32_299
  let c0_i32_300 : BitVec 32 := 0#32
  let v512 : BitVec 32 := Scalar.addi v511 c0_i32_300
  let c256_i32_301 : BitVec 32 := 256#32
  let v513 : BitVec 32 := Scalar.muli v512 c256_i32_301
  let c28_i32 : BitVec 32 := 28#32
  let v514 : BitVec 32 := Scalar.addi v513 c28_i32
  let v516 : Index := Scalar.indexCast v514
  ![0, 0, v516.toNat]
def k0_mult59 (v517 : BitVec 32) : BitVec 32 :=
  v517

def k0_mult60 (i : grid0.Coords) : BitVec 32 :=
  let arg1 : BitVec 32 := BitVec.ofNat 32 (i 1).val
  let c2_i32_299 : BitVec 32 := 2#32
  let v511 : BitVec 32 := Scalar.muli arg1 c2_i32_299
  let c0_i32_300 : BitVec 32 := 0#32
  let v512 : BitVec 32 := Scalar.addi v511 c0_i32_300
  let c256_i32_301 : BitVec 32 := 256#32
  let v513 : BitVec 32 := Scalar.muli v512 c256_i32_301
  let c28_i32 : BitVec 32 := 28#32
  let v514 : BitVec 32 := Scalar.addi v513 c28_i32
  let c8_i32_305 : BitVec 32 := 8#32
  let v519 : BitVec 32 := Scalar.muli v514 c8_i32_305
  v519
def k0_off127 (i : grid0.Coords) : Fin 1 → Nat :=
  let c1_i32_302 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v515 : BitVec 32 := Scalar.subi c1_i32_302 v9
  ![v515.toNat]
def k0_off128 (i : grid0.Coords) : Fin 3 → Nat :=
  let c1_i32_302 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v515 : BitVec 32 := Scalar.subi c1_i32_302 v9
  let arg1 : BitVec 32 := BitVec.ofNat 32 (i 1).val
  let c2_i32_299 : BitVec 32 := 2#32
  let v511 : BitVec 32 := Scalar.muli arg1 c2_i32_299
  let c0_i32_300 : BitVec 32 := 0#32
  let v512 : BitVec 32 := Scalar.addi v511 c0_i32_300
  let c256_i32_301 : BitVec 32 := 256#32
  let v513 : BitVec 32 := Scalar.muli v512 c256_i32_301
  let c28_i32 : BitVec 32 := 28#32
  let v514 : BitVec 32 := Scalar.addi v513 c28_i32
  let c8_i32_305 : BitVec 32 := 8#32
  let v519 : BitVec 32 := Scalar.muli v514 c8_i32_305
  let v520 : BitVec 32 := v519
  let c0_i32_306 : BitVec 32 := 0#32
  ![v515.toNat, v520.toNat, 0]
def k0_off129 (v517 : BitVec 32) : Fin 2 → Nat :=
  let v518 : BitVec 32 := v517
  let c0_i32_307 : BitVec 32 := 0#32
  ![v518.toNat, 0]

def k0_chk30 (i : grid0.Coords) (v517 : BitVec 32) : Prop :=
  (∀ (k0_h2 : k0_cond2 i = 1#1), 8 ∣ (k0_mult59 v517).toNat) ∧
  (∀ (k0_h2 : k0_cond2 i = 1#1), ∀ a, (k0_off129 v517) a + S8x128.size a ≤ S131072x128.size a)
theorem k0_mult59_dvd : ∀ (i : grid0.Coords) (v517 : BitVec 32) (k0_hw30 : k0_chk30 i v517), ∀ (k0_h2 : k0_cond2 i = 1#1), 8 ∣ (k0_mult59 v517).toNat := fun i v517 k0_hw30 k0_h2 => k0_hw30.1 k0_h2
theorem k0_off129_inb : ∀ (i : grid0.Coords) (v517 : BitVec 32) (k0_hw30 : k0_chk30 i v517), ∀ (k0_h2 : k0_cond2 i = 1#1), ∀ a, (k0_off129 v517) a + S8x128.size a ≤ S131072x128.size a := fun i v517 k0_hw30 k0_h2 => k0_hw30.2 k0_h2

def k0_off130 (i : grid0.Coords) : Fin 3 → Nat :=
  let c0_312 : Index := 0#32
  let c0_313 : Index := 0#32
  let arg1 : BitVec 32 := BitVec.ofNat 32 (i 1).val
  let c2_i32_308 : BitVec 32 := 2#32
  let v526 : BitVec 32 := Scalar.muli arg1 c2_i32_308
  let c0_i32_309 : BitVec 32 := 0#32
  let v527 : BitVec 32 := Scalar.addi v526 c0_i32_309
  let c256_i32_310 : BitVec 32 := 256#32
  let v528 : BitVec 32 := Scalar.muli v527 c256_i32_310
  let c29_i32 : BitVec 32 := 29#32
  let v529 : BitVec 32 := Scalar.addi v528 c29_i32
  let v531 : Index := Scalar.indexCast v529
  ![0, 0, v531.toNat]
def k0_mult61 (v532 : BitVec 32) : BitVec 32 :=
  v532

def k0_mult62 (i : grid0.Coords) : BitVec 32 :=
  let arg1 : BitVec 32 := BitVec.ofNat 32 (i 1).val
  let c2_i32_308 : BitVec 32 := 2#32
  let v526 : BitVec 32 := Scalar.muli arg1 c2_i32_308
  let c0_i32_309 : BitVec 32 := 0#32
  let v527 : BitVec 32 := Scalar.addi v526 c0_i32_309
  let c256_i32_310 : BitVec 32 := 256#32
  let v528 : BitVec 32 := Scalar.muli v527 c256_i32_310
  let c29_i32 : BitVec 32 := 29#32
  let v529 : BitVec 32 := Scalar.addi v528 c29_i32
  let c8_i32_314 : BitVec 32 := 8#32
  let v534 : BitVec 32 := Scalar.muli v529 c8_i32_314
  v534
def k0_off131 (i : grid0.Coords) : Fin 1 → Nat :=
  let c1_i32_311 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v530 : BitVec 32 := Scalar.subi c1_i32_311 v9
  ![v530.toNat]
def k0_off132 (i : grid0.Coords) : Fin 3 → Nat :=
  let c1_i32_311 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v530 : BitVec 32 := Scalar.subi c1_i32_311 v9
  let arg1 : BitVec 32 := BitVec.ofNat 32 (i 1).val
  let c2_i32_308 : BitVec 32 := 2#32
  let v526 : BitVec 32 := Scalar.muli arg1 c2_i32_308
  let c0_i32_309 : BitVec 32 := 0#32
  let v527 : BitVec 32 := Scalar.addi v526 c0_i32_309
  let c256_i32_310 : BitVec 32 := 256#32
  let v528 : BitVec 32 := Scalar.muli v527 c256_i32_310
  let c29_i32 : BitVec 32 := 29#32
  let v529 : BitVec 32 := Scalar.addi v528 c29_i32
  let c8_i32_314 : BitVec 32 := 8#32
  let v534 : BitVec 32 := Scalar.muli v529 c8_i32_314
  let v535 : BitVec 32 := v534
  let c0_i32_315 : BitVec 32 := 0#32
  ![v530.toNat, v535.toNat, 0]
def k0_off133 (v532 : BitVec 32) : Fin 2 → Nat :=
  let v533 : BitVec 32 := v532
  let c0_i32_316 : BitVec 32 := 0#32
  ![v533.toNat, 0]

def k0_chk31 (i : grid0.Coords) (v532 : BitVec 32) : Prop :=
  (∀ (k0_h2 : k0_cond2 i = 1#1), 8 ∣ (k0_mult61 v532).toNat) ∧
  (∀ (k0_h2 : k0_cond2 i = 1#1), ∀ a, (k0_off133 v532) a + S8x128.size a ≤ S131072x128.size a)
theorem k0_mult61_dvd : ∀ (i : grid0.Coords) (v532 : BitVec 32) (k0_hw31 : k0_chk31 i v532), ∀ (k0_h2 : k0_cond2 i = 1#1), 8 ∣ (k0_mult61 v532).toNat := fun i v532 k0_hw31 k0_h2 => k0_hw31.1 k0_h2
theorem k0_off133_inb : ∀ (i : grid0.Coords) (v532 : BitVec 32) (k0_hw31 : k0_chk31 i v532), ∀ (k0_h2 : k0_cond2 i = 1#1), ∀ a, (k0_off133 v532) a + S8x128.size a ≤ S131072x128.size a := fun i v532 k0_hw31 k0_h2 => k0_hw31.2 k0_h2

def k0_off134 (i : grid0.Coords) : Fin 3 → Nat :=
  let c0_321 : Index := 0#32
  let c0_322 : Index := 0#32
  let arg1 : BitVec 32 := BitVec.ofNat 32 (i 1).val
  let c2_i32_317 : BitVec 32 := 2#32
  let v541 : BitVec 32 := Scalar.muli arg1 c2_i32_317
  let c0_i32_318 : BitVec 32 := 0#32
  let v542 : BitVec 32 := Scalar.addi v541 c0_i32_318
  let c256_i32_319 : BitVec 32 := 256#32
  let v543 : BitVec 32 := Scalar.muli v542 c256_i32_319
  let c30_i32 : BitVec 32 := 30#32
  let v544 : BitVec 32 := Scalar.addi v543 c30_i32
  let v546 : Index := Scalar.indexCast v544
  ![0, 0, v546.toNat]
def k0_mult63 (v547 : BitVec 32) : BitVec 32 :=
  v547

def k0_mult64 (i : grid0.Coords) : BitVec 32 :=
  let arg1 : BitVec 32 := BitVec.ofNat 32 (i 1).val
  let c2_i32_317 : BitVec 32 := 2#32
  let v541 : BitVec 32 := Scalar.muli arg1 c2_i32_317
  let c0_i32_318 : BitVec 32 := 0#32
  let v542 : BitVec 32 := Scalar.addi v541 c0_i32_318
  let c256_i32_319 : BitVec 32 := 256#32
  let v543 : BitVec 32 := Scalar.muli v542 c256_i32_319
  let c30_i32 : BitVec 32 := 30#32
  let v544 : BitVec 32 := Scalar.addi v543 c30_i32
  let c8_i32_323 : BitVec 32 := 8#32
  let v549 : BitVec 32 := Scalar.muli v544 c8_i32_323
  v549
def k0_off135 (i : grid0.Coords) : Fin 1 → Nat :=
  let c1_i32_320 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v545 : BitVec 32 := Scalar.subi c1_i32_320 v9
  ![v545.toNat]
def k0_off136 (i : grid0.Coords) : Fin 3 → Nat :=
  let c1_i32_320 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v545 : BitVec 32 := Scalar.subi c1_i32_320 v9
  let arg1 : BitVec 32 := BitVec.ofNat 32 (i 1).val
  let c2_i32_317 : BitVec 32 := 2#32
  let v541 : BitVec 32 := Scalar.muli arg1 c2_i32_317
  let c0_i32_318 : BitVec 32 := 0#32
  let v542 : BitVec 32 := Scalar.addi v541 c0_i32_318
  let c256_i32_319 : BitVec 32 := 256#32
  let v543 : BitVec 32 := Scalar.muli v542 c256_i32_319
  let c30_i32 : BitVec 32 := 30#32
  let v544 : BitVec 32 := Scalar.addi v543 c30_i32
  let c8_i32_323 : BitVec 32 := 8#32
  let v549 : BitVec 32 := Scalar.muli v544 c8_i32_323
  let v550 : BitVec 32 := v549
  let c0_i32_324 : BitVec 32 := 0#32
  ![v545.toNat, v550.toNat, 0]
def k0_off137 (v547 : BitVec 32) : Fin 2 → Nat :=
  let v548 : BitVec 32 := v547
  let c0_i32_325 : BitVec 32 := 0#32
  ![v548.toNat, 0]

def k0_chk32 (i : grid0.Coords) (v547 : BitVec 32) : Prop :=
  (∀ (k0_h2 : k0_cond2 i = 1#1), 8 ∣ (k0_mult63 v547).toNat) ∧
  (∀ (k0_h2 : k0_cond2 i = 1#1), ∀ a, (k0_off137 v547) a + S8x128.size a ≤ S131072x128.size a)
theorem k0_mult63_dvd : ∀ (i : grid0.Coords) (v547 : BitVec 32) (k0_hw32 : k0_chk32 i v547), ∀ (k0_h2 : k0_cond2 i = 1#1), 8 ∣ (k0_mult63 v547).toNat := fun i v547 k0_hw32 k0_h2 => k0_hw32.1 k0_h2
theorem k0_off137_inb : ∀ (i : grid0.Coords) (v547 : BitVec 32) (k0_hw32 : k0_chk32 i v547), ∀ (k0_h2 : k0_cond2 i = 1#1), ∀ a, (k0_off137 v547) a + S8x128.size a ≤ S131072x128.size a := fun i v547 k0_hw32 k0_h2 => k0_hw32.2 k0_h2

def k0_off138 (i : grid0.Coords) : Fin 3 → Nat :=
  let c0_330 : Index := 0#32
  let c0_331 : Index := 0#32
  let arg1 : BitVec 32 := BitVec.ofNat 32 (i 1).val
  let c2_i32_326 : BitVec 32 := 2#32
  let v556 : BitVec 32 := Scalar.muli arg1 c2_i32_326
  let c0_i32_327 : BitVec 32 := 0#32
  let v557 : BitVec 32 := Scalar.addi v556 c0_i32_327
  let c256_i32_328 : BitVec 32 := 256#32
  let v558 : BitVec 32 := Scalar.muli v557 c256_i32_328
  let c31_i32 : BitVec 32 := 31#32
  let v559 : BitVec 32 := Scalar.addi v558 c31_i32
  let v561 : Index := Scalar.indexCast v559
  ![0, 0, v561.toNat]
def k0_mult65 (v562 : BitVec 32) : BitVec 32 :=
  v562

def k0_mult66 (i : grid0.Coords) : BitVec 32 :=
  let arg1 : BitVec 32 := BitVec.ofNat 32 (i 1).val
  let c2_i32_326 : BitVec 32 := 2#32
  let v556 : BitVec 32 := Scalar.muli arg1 c2_i32_326
  let c0_i32_327 : BitVec 32 := 0#32
  let v557 : BitVec 32 := Scalar.addi v556 c0_i32_327
  let c256_i32_328 : BitVec 32 := 256#32
  let v558 : BitVec 32 := Scalar.muli v557 c256_i32_328
  let c31_i32 : BitVec 32 := 31#32
  let v559 : BitVec 32 := Scalar.addi v558 c31_i32
  let c8_i32_332 : BitVec 32 := 8#32
  let v564 : BitVec 32 := Scalar.muli v559 c8_i32_332
  v564
def k0_off139 (i : grid0.Coords) : Fin 1 → Nat :=
  let c1_i32_329 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v560 : BitVec 32 := Scalar.subi c1_i32_329 v9
  ![v560.toNat]
def k0_off140 (i : grid0.Coords) : Fin 3 → Nat :=
  let c1_i32_329 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v560 : BitVec 32 := Scalar.subi c1_i32_329 v9
  let arg1 : BitVec 32 := BitVec.ofNat 32 (i 1).val
  let c2_i32_326 : BitVec 32 := 2#32
  let v556 : BitVec 32 := Scalar.muli arg1 c2_i32_326
  let c0_i32_327 : BitVec 32 := 0#32
  let v557 : BitVec 32 := Scalar.addi v556 c0_i32_327
  let c256_i32_328 : BitVec 32 := 256#32
  let v558 : BitVec 32 := Scalar.muli v557 c256_i32_328
  let c31_i32 : BitVec 32 := 31#32
  let v559 : BitVec 32 := Scalar.addi v558 c31_i32
  let c8_i32_332 : BitVec 32 := 8#32
  let v564 : BitVec 32 := Scalar.muli v559 c8_i32_332
  let v565 : BitVec 32 := v564
  let c0_i32_333 : BitVec 32 := 0#32
  ![v560.toNat, v565.toNat, 0]
def k0_off141 (v562 : BitVec 32) : Fin 2 → Nat :=
  let v563 : BitVec 32 := v562
  let c0_i32_334 : BitVec 32 := 0#32
  ![v563.toNat, 0]

def k0_chk33 (i : grid0.Coords) (v562 : BitVec 32) : Prop :=
  (∀ (k0_h2 : k0_cond2 i = 1#1), 8 ∣ (k0_mult65 v562).toNat) ∧
  (∀ (k0_h2 : k0_cond2 i = 1#1), ∀ a, (k0_off141 v562) a + S8x128.size a ≤ S131072x128.size a)
theorem k0_mult65_dvd : ∀ (i : grid0.Coords) (v562 : BitVec 32) (k0_hw33 : k0_chk33 i v562), ∀ (k0_h2 : k0_cond2 i = 1#1), 8 ∣ (k0_mult65 v562).toNat := fun i v562 k0_hw33 k0_h2 => k0_hw33.1 k0_h2
theorem k0_off141_inb : ∀ (i : grid0.Coords) (v562 : BitVec 32) (k0_hw33 : k0_chk33 i v562), ∀ (k0_h2 : k0_cond2 i = 1#1), ∀ a, (k0_off141 v562) a + S8x128.size a ≤ S131072x128.size a := fun i v562 k0_hw33 k0_h2 => k0_hw33.2 k0_h2

def k0_off142 (i : grid0.Coords) : Fin 3 → Nat :=
  let c0_339 : Index := 0#32
  let c0_340 : Index := 0#32
  let arg1 : BitVec 32 := BitVec.ofNat 32 (i 1).val
  let c2_i32_335 : BitVec 32 := 2#32
  let v571 : BitVec 32 := Scalar.muli arg1 c2_i32_335
  let c0_i32_336 : BitVec 32 := 0#32
  let v572 : BitVec 32 := Scalar.addi v571 c0_i32_336
  let c256_i32_337 : BitVec 32 := 256#32
  let v573 : BitVec 32 := Scalar.muli v572 c256_i32_337
  let c32_i32 : BitVec 32 := 32#32
  let v574 : BitVec 32 := Scalar.addi v573 c32_i32
  let v576 : Index := Scalar.indexCast v574
  ![0, 0, v576.toNat]
def k0_mult67 (v577 : BitVec 32) : BitVec 32 :=
  v577

def k0_mult68 (i : grid0.Coords) : BitVec 32 :=
  let arg1 : BitVec 32 := BitVec.ofNat 32 (i 1).val
  let c2_i32_335 : BitVec 32 := 2#32
  let v571 : BitVec 32 := Scalar.muli arg1 c2_i32_335
  let c0_i32_336 : BitVec 32 := 0#32
  let v572 : BitVec 32 := Scalar.addi v571 c0_i32_336
  let c256_i32_337 : BitVec 32 := 256#32
  let v573 : BitVec 32 := Scalar.muli v572 c256_i32_337
  let c32_i32 : BitVec 32 := 32#32
  let v574 : BitVec 32 := Scalar.addi v573 c32_i32
  let c8_i32_341 : BitVec 32 := 8#32
  let v579 : BitVec 32 := Scalar.muli v574 c8_i32_341
  v579
def k0_off143 (i : grid0.Coords) : Fin 1 → Nat :=
  let c1_i32_338 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v575 : BitVec 32 := Scalar.subi c1_i32_338 v9
  ![v575.toNat]
def k0_off144 (i : grid0.Coords) : Fin 3 → Nat :=
  let c1_i32_338 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v575 : BitVec 32 := Scalar.subi c1_i32_338 v9
  let arg1 : BitVec 32 := BitVec.ofNat 32 (i 1).val
  let c2_i32_335 : BitVec 32 := 2#32
  let v571 : BitVec 32 := Scalar.muli arg1 c2_i32_335
  let c0_i32_336 : BitVec 32 := 0#32
  let v572 : BitVec 32 := Scalar.addi v571 c0_i32_336
  let c256_i32_337 : BitVec 32 := 256#32
  let v573 : BitVec 32 := Scalar.muli v572 c256_i32_337
  let c32_i32 : BitVec 32 := 32#32
  let v574 : BitVec 32 := Scalar.addi v573 c32_i32
  let c8_i32_341 : BitVec 32 := 8#32
  let v579 : BitVec 32 := Scalar.muli v574 c8_i32_341
  let v580 : BitVec 32 := v579
  let c0_i32_342 : BitVec 32 := 0#32
  ![v575.toNat, v580.toNat, 0]
def k0_off145 (v577 : BitVec 32) : Fin 2 → Nat :=
  let v578 : BitVec 32 := v577
  let c0_i32_343 : BitVec 32 := 0#32
  ![v578.toNat, 0]

def k0_chk34 (i : grid0.Coords) (v577 : BitVec 32) : Prop :=
  (∀ (k0_h2 : k0_cond2 i = 1#1), 8 ∣ (k0_mult67 v577).toNat) ∧
  (∀ (k0_h2 : k0_cond2 i = 1#1), ∀ a, (k0_off145 v577) a + S8x128.size a ≤ S131072x128.size a)
theorem k0_mult67_dvd : ∀ (i : grid0.Coords) (v577 : BitVec 32) (k0_hw34 : k0_chk34 i v577), ∀ (k0_h2 : k0_cond2 i = 1#1), 8 ∣ (k0_mult67 v577).toNat := fun i v577 k0_hw34 k0_h2 => k0_hw34.1 k0_h2
theorem k0_off145_inb : ∀ (i : grid0.Coords) (v577 : BitVec 32) (k0_hw34 : k0_chk34 i v577), ∀ (k0_h2 : k0_cond2 i = 1#1), ∀ a, (k0_off145 v577) a + S8x128.size a ≤ S131072x128.size a := fun i v577 k0_hw34 k0_h2 => k0_hw34.2 k0_h2

def k0_off146 (i : grid0.Coords) : Fin 3 → Nat :=
  let c0_348 : Index := 0#32
  let c0_349 : Index := 0#32
  let arg1 : BitVec 32 := BitVec.ofNat 32 (i 1).val
  let c2_i32_344 : BitVec 32 := 2#32
  let v586 : BitVec 32 := Scalar.muli arg1 c2_i32_344
  let c0_i32_345 : BitVec 32 := 0#32
  let v587 : BitVec 32 := Scalar.addi v586 c0_i32_345
  let c256_i32_346 : BitVec 32 := 256#32
  let v588 : BitVec 32 := Scalar.muli v587 c256_i32_346
  let c33_i32 : BitVec 32 := 33#32
  let v589 : BitVec 32 := Scalar.addi v588 c33_i32
  let v591 : Index := Scalar.indexCast v589
  ![0, 0, v591.toNat]
def k0_mult69 (v592 : BitVec 32) : BitVec 32 :=
  v592

def k0_mult70 (i : grid0.Coords) : BitVec 32 :=
  let arg1 : BitVec 32 := BitVec.ofNat 32 (i 1).val
  let c2_i32_344 : BitVec 32 := 2#32
  let v586 : BitVec 32 := Scalar.muli arg1 c2_i32_344
  let c0_i32_345 : BitVec 32 := 0#32
  let v587 : BitVec 32 := Scalar.addi v586 c0_i32_345
  let c256_i32_346 : BitVec 32 := 256#32
  let v588 : BitVec 32 := Scalar.muli v587 c256_i32_346
  let c33_i32 : BitVec 32 := 33#32
  let v589 : BitVec 32 := Scalar.addi v588 c33_i32
  let c8_i32_350 : BitVec 32 := 8#32
  let v594 : BitVec 32 := Scalar.muli v589 c8_i32_350
  v594
def k0_off147 (i : grid0.Coords) : Fin 1 → Nat :=
  let c1_i32_347 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v590 : BitVec 32 := Scalar.subi c1_i32_347 v9
  ![v590.toNat]
def k0_off148 (i : grid0.Coords) : Fin 3 → Nat :=
  let c1_i32_347 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v590 : BitVec 32 := Scalar.subi c1_i32_347 v9
  let arg1 : BitVec 32 := BitVec.ofNat 32 (i 1).val
  let c2_i32_344 : BitVec 32 := 2#32
  let v586 : BitVec 32 := Scalar.muli arg1 c2_i32_344
  let c0_i32_345 : BitVec 32 := 0#32
  let v587 : BitVec 32 := Scalar.addi v586 c0_i32_345
  let c256_i32_346 : BitVec 32 := 256#32
  let v588 : BitVec 32 := Scalar.muli v587 c256_i32_346
  let c33_i32 : BitVec 32 := 33#32
  let v589 : BitVec 32 := Scalar.addi v588 c33_i32
  let c8_i32_350 : BitVec 32 := 8#32
  let v594 : BitVec 32 := Scalar.muli v589 c8_i32_350
  let v595 : BitVec 32 := v594
  let c0_i32_351 : BitVec 32 := 0#32
  ![v590.toNat, v595.toNat, 0]
def k0_off149 (v592 : BitVec 32) : Fin 2 → Nat :=
  let v593 : BitVec 32 := v592
  let c0_i32_352 : BitVec 32 := 0#32
  ![v593.toNat, 0]

def k0_chk35 (i : grid0.Coords) (v592 : BitVec 32) : Prop :=
  (∀ (k0_h2 : k0_cond2 i = 1#1), 8 ∣ (k0_mult69 v592).toNat) ∧
  (∀ (k0_h2 : k0_cond2 i = 1#1), ∀ a, (k0_off149 v592) a + S8x128.size a ≤ S131072x128.size a)
theorem k0_mult69_dvd : ∀ (i : grid0.Coords) (v592 : BitVec 32) (k0_hw35 : k0_chk35 i v592), ∀ (k0_h2 : k0_cond2 i = 1#1), 8 ∣ (k0_mult69 v592).toNat := fun i v592 k0_hw35 k0_h2 => k0_hw35.1 k0_h2
theorem k0_off149_inb : ∀ (i : grid0.Coords) (v592 : BitVec 32) (k0_hw35 : k0_chk35 i v592), ∀ (k0_h2 : k0_cond2 i = 1#1), ∀ a, (k0_off149 v592) a + S8x128.size a ≤ S131072x128.size a := fun i v592 k0_hw35 k0_h2 => k0_hw35.2 k0_h2

def k0_off150 (i : grid0.Coords) : Fin 3 → Nat :=
  let c0_357 : Index := 0#32
  let c0_358 : Index := 0#32
  let arg1 : BitVec 32 := BitVec.ofNat 32 (i 1).val
  let c2_i32_353 : BitVec 32 := 2#32
  let v601 : BitVec 32 := Scalar.muli arg1 c2_i32_353
  let c0_i32_354 : BitVec 32 := 0#32
  let v602 : BitVec 32 := Scalar.addi v601 c0_i32_354
  let c256_i32_355 : BitVec 32 := 256#32
  let v603 : BitVec 32 := Scalar.muli v602 c256_i32_355
  let c34_i32 : BitVec 32 := 34#32
  let v604 : BitVec 32 := Scalar.addi v603 c34_i32
  let v606 : Index := Scalar.indexCast v604
  ![0, 0, v606.toNat]
def k0_mult71 (v607 : BitVec 32) : BitVec 32 :=
  v607

def k0_mult72 (i : grid0.Coords) : BitVec 32 :=
  let arg1 : BitVec 32 := BitVec.ofNat 32 (i 1).val
  let c2_i32_353 : BitVec 32 := 2#32
  let v601 : BitVec 32 := Scalar.muli arg1 c2_i32_353
  let c0_i32_354 : BitVec 32 := 0#32
  let v602 : BitVec 32 := Scalar.addi v601 c0_i32_354
  let c256_i32_355 : BitVec 32 := 256#32
  let v603 : BitVec 32 := Scalar.muli v602 c256_i32_355
  let c34_i32 : BitVec 32 := 34#32
  let v604 : BitVec 32 := Scalar.addi v603 c34_i32
  let c8_i32_359 : BitVec 32 := 8#32
  let v609 : BitVec 32 := Scalar.muli v604 c8_i32_359
  v609
def k0_off151 (i : grid0.Coords) : Fin 1 → Nat :=
  let c1_i32_356 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v605 : BitVec 32 := Scalar.subi c1_i32_356 v9
  ![v605.toNat]
def k0_off152 (i : grid0.Coords) : Fin 3 → Nat :=
  let c1_i32_356 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v605 : BitVec 32 := Scalar.subi c1_i32_356 v9
  let arg1 : BitVec 32 := BitVec.ofNat 32 (i 1).val
  let c2_i32_353 : BitVec 32 := 2#32
  let v601 : BitVec 32 := Scalar.muli arg1 c2_i32_353
  let c0_i32_354 : BitVec 32 := 0#32
  let v602 : BitVec 32 := Scalar.addi v601 c0_i32_354
  let c256_i32_355 : BitVec 32 := 256#32
  let v603 : BitVec 32 := Scalar.muli v602 c256_i32_355
  let c34_i32 : BitVec 32 := 34#32
  let v604 : BitVec 32 := Scalar.addi v603 c34_i32
  let c8_i32_359 : BitVec 32 := 8#32
  let v609 : BitVec 32 := Scalar.muli v604 c8_i32_359
  let v610 : BitVec 32 := v609
  let c0_i32_360 : BitVec 32 := 0#32
  ![v605.toNat, v610.toNat, 0]
def k0_off153 (v607 : BitVec 32) : Fin 2 → Nat :=
  let v608 : BitVec 32 := v607
  let c0_i32_361 : BitVec 32 := 0#32
  ![v608.toNat, 0]

def k0_chk36 (i : grid0.Coords) (v607 : BitVec 32) : Prop :=
  (∀ (k0_h2 : k0_cond2 i = 1#1), 8 ∣ (k0_mult71 v607).toNat) ∧
  (∀ (k0_h2 : k0_cond2 i = 1#1), ∀ a, (k0_off153 v607) a + S8x128.size a ≤ S131072x128.size a)
theorem k0_mult71_dvd : ∀ (i : grid0.Coords) (v607 : BitVec 32) (k0_hw36 : k0_chk36 i v607), ∀ (k0_h2 : k0_cond2 i = 1#1), 8 ∣ (k0_mult71 v607).toNat := fun i v607 k0_hw36 k0_h2 => k0_hw36.1 k0_h2
theorem k0_off153_inb : ∀ (i : grid0.Coords) (v607 : BitVec 32) (k0_hw36 : k0_chk36 i v607), ∀ (k0_h2 : k0_cond2 i = 1#1), ∀ a, (k0_off153 v607) a + S8x128.size a ≤ S131072x128.size a := fun i v607 k0_hw36 k0_h2 => k0_hw36.2 k0_h2

def k0_off154 (i : grid0.Coords) : Fin 3 → Nat :=
  let c0_366 : Index := 0#32
  let c0_367 : Index := 0#32
  let arg1 : BitVec 32 := BitVec.ofNat 32 (i 1).val
  let c2_i32_362 : BitVec 32 := 2#32
  let v616 : BitVec 32 := Scalar.muli arg1 c2_i32_362
  let c0_i32_363 : BitVec 32 := 0#32
  let v617 : BitVec 32 := Scalar.addi v616 c0_i32_363
  let c256_i32_364 : BitVec 32 := 256#32
  let v618 : BitVec 32 := Scalar.muli v617 c256_i32_364
  let c35_i32 : BitVec 32 := 35#32
  let v619 : BitVec 32 := Scalar.addi v618 c35_i32
  let v621 : Index := Scalar.indexCast v619
  ![0, 0, v621.toNat]
def k0_mult73 (v622 : BitVec 32) : BitVec 32 :=
  v622

def k0_mult74 (i : grid0.Coords) : BitVec 32 :=
  let arg1 : BitVec 32 := BitVec.ofNat 32 (i 1).val
  let c2_i32_362 : BitVec 32 := 2#32
  let v616 : BitVec 32 := Scalar.muli arg1 c2_i32_362
  let c0_i32_363 : BitVec 32 := 0#32
  let v617 : BitVec 32 := Scalar.addi v616 c0_i32_363
  let c256_i32_364 : BitVec 32 := 256#32
  let v618 : BitVec 32 := Scalar.muli v617 c256_i32_364
  let c35_i32 : BitVec 32 := 35#32
  let v619 : BitVec 32 := Scalar.addi v618 c35_i32
  let c8_i32_368 : BitVec 32 := 8#32
  let v624 : BitVec 32 := Scalar.muli v619 c8_i32_368
  v624
def k0_off155 (i : grid0.Coords) : Fin 1 → Nat :=
  let c1_i32_365 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v620 : BitVec 32 := Scalar.subi c1_i32_365 v9
  ![v620.toNat]
def k0_off156 (i : grid0.Coords) : Fin 3 → Nat :=
  let c1_i32_365 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v620 : BitVec 32 := Scalar.subi c1_i32_365 v9
  let arg1 : BitVec 32 := BitVec.ofNat 32 (i 1).val
  let c2_i32_362 : BitVec 32 := 2#32
  let v616 : BitVec 32 := Scalar.muli arg1 c2_i32_362
  let c0_i32_363 : BitVec 32 := 0#32
  let v617 : BitVec 32 := Scalar.addi v616 c0_i32_363
  let c256_i32_364 : BitVec 32 := 256#32
  let v618 : BitVec 32 := Scalar.muli v617 c256_i32_364
  let c35_i32 : BitVec 32 := 35#32
  let v619 : BitVec 32 := Scalar.addi v618 c35_i32
  let c8_i32_368 : BitVec 32 := 8#32
  let v624 : BitVec 32 := Scalar.muli v619 c8_i32_368
  let v625 : BitVec 32 := v624
  let c0_i32_369 : BitVec 32 := 0#32
  ![v620.toNat, v625.toNat, 0]
def k0_off157 (v622 : BitVec 32) : Fin 2 → Nat :=
  let v623 : BitVec 32 := v622
  let c0_i32_370 : BitVec 32 := 0#32
  ![v623.toNat, 0]

def k0_chk37 (i : grid0.Coords) (v622 : BitVec 32) : Prop :=
  (∀ (k0_h2 : k0_cond2 i = 1#1), 8 ∣ (k0_mult73 v622).toNat) ∧
  (∀ (k0_h2 : k0_cond2 i = 1#1), ∀ a, (k0_off157 v622) a + S8x128.size a ≤ S131072x128.size a)
theorem k0_mult73_dvd : ∀ (i : grid0.Coords) (v622 : BitVec 32) (k0_hw37 : k0_chk37 i v622), ∀ (k0_h2 : k0_cond2 i = 1#1), 8 ∣ (k0_mult73 v622).toNat := fun i v622 k0_hw37 k0_h2 => k0_hw37.1 k0_h2
theorem k0_off157_inb : ∀ (i : grid0.Coords) (v622 : BitVec 32) (k0_hw37 : k0_chk37 i v622), ∀ (k0_h2 : k0_cond2 i = 1#1), ∀ a, (k0_off157 v622) a + S8x128.size a ≤ S131072x128.size a := fun i v622 k0_hw37 k0_h2 => k0_hw37.2 k0_h2

def k0_off158 (i : grid0.Coords) : Fin 3 → Nat :=
  let c0_375 : Index := 0#32
  let c0_376 : Index := 0#32
  let arg1 : BitVec 32 := BitVec.ofNat 32 (i 1).val
  let c2_i32_371 : BitVec 32 := 2#32
  let v631 : BitVec 32 := Scalar.muli arg1 c2_i32_371
  let c0_i32_372 : BitVec 32 := 0#32
  let v632 : BitVec 32 := Scalar.addi v631 c0_i32_372
  let c256_i32_373 : BitVec 32 := 256#32
  let v633 : BitVec 32 := Scalar.muli v632 c256_i32_373
  let c36_i32 : BitVec 32 := 36#32
  let v634 : BitVec 32 := Scalar.addi v633 c36_i32
  let v636 : Index := Scalar.indexCast v634
  ![0, 0, v636.toNat]
def k0_mult75 (v637 : BitVec 32) : BitVec 32 :=
  v637

def k0_mult76 (i : grid0.Coords) : BitVec 32 :=
  let arg1 : BitVec 32 := BitVec.ofNat 32 (i 1).val
  let c2_i32_371 : BitVec 32 := 2#32
  let v631 : BitVec 32 := Scalar.muli arg1 c2_i32_371
  let c0_i32_372 : BitVec 32 := 0#32
  let v632 : BitVec 32 := Scalar.addi v631 c0_i32_372
  let c256_i32_373 : BitVec 32 := 256#32
  let v633 : BitVec 32 := Scalar.muli v632 c256_i32_373
  let c36_i32 : BitVec 32 := 36#32
  let v634 : BitVec 32 := Scalar.addi v633 c36_i32
  let c8_i32_377 : BitVec 32 := 8#32
  let v639 : BitVec 32 := Scalar.muli v634 c8_i32_377
  v639
def k0_off159 (i : grid0.Coords) : Fin 1 → Nat :=
  let c1_i32_374 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v635 : BitVec 32 := Scalar.subi c1_i32_374 v9
  ![v635.toNat]
def k0_off160 (i : grid0.Coords) : Fin 3 → Nat :=
  let c1_i32_374 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v635 : BitVec 32 := Scalar.subi c1_i32_374 v9
  let arg1 : BitVec 32 := BitVec.ofNat 32 (i 1).val
  let c2_i32_371 : BitVec 32 := 2#32
  let v631 : BitVec 32 := Scalar.muli arg1 c2_i32_371
  let c0_i32_372 : BitVec 32 := 0#32
  let v632 : BitVec 32 := Scalar.addi v631 c0_i32_372
  let c256_i32_373 : BitVec 32 := 256#32
  let v633 : BitVec 32 := Scalar.muli v632 c256_i32_373
  let c36_i32 : BitVec 32 := 36#32
  let v634 : BitVec 32 := Scalar.addi v633 c36_i32
  let c8_i32_377 : BitVec 32 := 8#32
  let v639 : BitVec 32 := Scalar.muli v634 c8_i32_377
  let v640 : BitVec 32 := v639
  let c0_i32_378 : BitVec 32 := 0#32
  ![v635.toNat, v640.toNat, 0]
def k0_off161 (v637 : BitVec 32) : Fin 2 → Nat :=
  let v638 : BitVec 32 := v637
  let c0_i32_379 : BitVec 32 := 0#32
  ![v638.toNat, 0]

def k0_chk38 (i : grid0.Coords) (v637 : BitVec 32) : Prop :=
  (∀ (k0_h2 : k0_cond2 i = 1#1), 8 ∣ (k0_mult75 v637).toNat) ∧
  (∀ (k0_h2 : k0_cond2 i = 1#1), ∀ a, (k0_off161 v637) a + S8x128.size a ≤ S131072x128.size a)
theorem k0_mult75_dvd : ∀ (i : grid0.Coords) (v637 : BitVec 32) (k0_hw38 : k0_chk38 i v637), ∀ (k0_h2 : k0_cond2 i = 1#1), 8 ∣ (k0_mult75 v637).toNat := fun i v637 k0_hw38 k0_h2 => k0_hw38.1 k0_h2
theorem k0_off161_inb : ∀ (i : grid0.Coords) (v637 : BitVec 32) (k0_hw38 : k0_chk38 i v637), ∀ (k0_h2 : k0_cond2 i = 1#1), ∀ a, (k0_off161 v637) a + S8x128.size a ≤ S131072x128.size a := fun i v637 k0_hw38 k0_h2 => k0_hw38.2 k0_h2

def k0_off162 (i : grid0.Coords) : Fin 3 → Nat :=
  let c0_384 : Index := 0#32
  let c0_385 : Index := 0#32
  let arg1 : BitVec 32 := BitVec.ofNat 32 (i 1).val
  let c2_i32_380 : BitVec 32 := 2#32
  let v646 : BitVec 32 := Scalar.muli arg1 c2_i32_380
  let c0_i32_381 : BitVec 32 := 0#32
  let v647 : BitVec 32 := Scalar.addi v646 c0_i32_381
  let c256_i32_382 : BitVec 32 := 256#32
  let v648 : BitVec 32 := Scalar.muli v647 c256_i32_382
  let c37_i32 : BitVec 32 := 37#32
  let v649 : BitVec 32 := Scalar.addi v648 c37_i32
  let v651 : Index := Scalar.indexCast v649
  ![0, 0, v651.toNat]
def k0_mult77 (v652 : BitVec 32) : BitVec 32 :=
  v652

def k0_mult78 (i : grid0.Coords) : BitVec 32 :=
  let arg1 : BitVec 32 := BitVec.ofNat 32 (i 1).val
  let c2_i32_380 : BitVec 32 := 2#32
  let v646 : BitVec 32 := Scalar.muli arg1 c2_i32_380
  let c0_i32_381 : BitVec 32 := 0#32
  let v647 : BitVec 32 := Scalar.addi v646 c0_i32_381
  let c256_i32_382 : BitVec 32 := 256#32
  let v648 : BitVec 32 := Scalar.muli v647 c256_i32_382
  let c37_i32 : BitVec 32 := 37#32
  let v649 : BitVec 32 := Scalar.addi v648 c37_i32
  let c8_i32_386 : BitVec 32 := 8#32
  let v654 : BitVec 32 := Scalar.muli v649 c8_i32_386
  v654
def k0_off163 (i : grid0.Coords) : Fin 1 → Nat :=
  let c1_i32_383 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v650 : BitVec 32 := Scalar.subi c1_i32_383 v9
  ![v650.toNat]
def k0_off164 (i : grid0.Coords) : Fin 3 → Nat :=
  let c1_i32_383 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v650 : BitVec 32 := Scalar.subi c1_i32_383 v9
  let arg1 : BitVec 32 := BitVec.ofNat 32 (i 1).val
  let c2_i32_380 : BitVec 32 := 2#32
  let v646 : BitVec 32 := Scalar.muli arg1 c2_i32_380
  let c0_i32_381 : BitVec 32 := 0#32
  let v647 : BitVec 32 := Scalar.addi v646 c0_i32_381
  let c256_i32_382 : BitVec 32 := 256#32
  let v648 : BitVec 32 := Scalar.muli v647 c256_i32_382
  let c37_i32 : BitVec 32 := 37#32
  let v649 : BitVec 32 := Scalar.addi v648 c37_i32
  let c8_i32_386 : BitVec 32 := 8#32
  let v654 : BitVec 32 := Scalar.muli v649 c8_i32_386
  let v655 : BitVec 32 := v654
  let c0_i32_387 : BitVec 32 := 0#32
  ![v650.toNat, v655.toNat, 0]
def k0_off165 (v652 : BitVec 32) : Fin 2 → Nat :=
  let v653 : BitVec 32 := v652
  let c0_i32_388 : BitVec 32 := 0#32
  ![v653.toNat, 0]

def k0_chk39 (i : grid0.Coords) (v652 : BitVec 32) : Prop :=
  (∀ (k0_h2 : k0_cond2 i = 1#1), 8 ∣ (k0_mult77 v652).toNat) ∧
  (∀ (k0_h2 : k0_cond2 i = 1#1), ∀ a, (k0_off165 v652) a + S8x128.size a ≤ S131072x128.size a)
theorem k0_mult77_dvd : ∀ (i : grid0.Coords) (v652 : BitVec 32) (k0_hw39 : k0_chk39 i v652), ∀ (k0_h2 : k0_cond2 i = 1#1), 8 ∣ (k0_mult77 v652).toNat := fun i v652 k0_hw39 k0_h2 => k0_hw39.1 k0_h2
theorem k0_off165_inb : ∀ (i : grid0.Coords) (v652 : BitVec 32) (k0_hw39 : k0_chk39 i v652), ∀ (k0_h2 : k0_cond2 i = 1#1), ∀ a, (k0_off165 v652) a + S8x128.size a ≤ S131072x128.size a := fun i v652 k0_hw39 k0_h2 => k0_hw39.2 k0_h2

def k0_off166 (i : grid0.Coords) : Fin 3 → Nat :=
  let c0_393 : Index := 0#32
  let c0_394 : Index := 0#32
  let arg1 : BitVec 32 := BitVec.ofNat 32 (i 1).val
  let c2_i32_389 : BitVec 32 := 2#32
  let v661 : BitVec 32 := Scalar.muli arg1 c2_i32_389
  let c0_i32_390 : BitVec 32 := 0#32
  let v662 : BitVec 32 := Scalar.addi v661 c0_i32_390
  let c256_i32_391 : BitVec 32 := 256#32
  let v663 : BitVec 32 := Scalar.muli v662 c256_i32_391
  let c38_i32 : BitVec 32 := 38#32
  let v664 : BitVec 32 := Scalar.addi v663 c38_i32
  let v666 : Index := Scalar.indexCast v664
  ![0, 0, v666.toNat]
def k0_mult79 (v667 : BitVec 32) : BitVec 32 :=
  v667

def k0_mult80 (i : grid0.Coords) : BitVec 32 :=
  let arg1 : BitVec 32 := BitVec.ofNat 32 (i 1).val
  let c2_i32_389 : BitVec 32 := 2#32
  let v661 : BitVec 32 := Scalar.muli arg1 c2_i32_389
  let c0_i32_390 : BitVec 32 := 0#32
  let v662 : BitVec 32 := Scalar.addi v661 c0_i32_390
  let c256_i32_391 : BitVec 32 := 256#32
  let v663 : BitVec 32 := Scalar.muli v662 c256_i32_391
  let c38_i32 : BitVec 32 := 38#32
  let v664 : BitVec 32 := Scalar.addi v663 c38_i32
  let c8_i32_395 : BitVec 32 := 8#32
  let v669 : BitVec 32 := Scalar.muli v664 c8_i32_395
  v669
def k0_off167 (i : grid0.Coords) : Fin 1 → Nat :=
  let c1_i32_392 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v665 : BitVec 32 := Scalar.subi c1_i32_392 v9
  ![v665.toNat]
def k0_off168 (i : grid0.Coords) : Fin 3 → Nat :=
  let c1_i32_392 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v665 : BitVec 32 := Scalar.subi c1_i32_392 v9
  let arg1 : BitVec 32 := BitVec.ofNat 32 (i 1).val
  let c2_i32_389 : BitVec 32 := 2#32
  let v661 : BitVec 32 := Scalar.muli arg1 c2_i32_389
  let c0_i32_390 : BitVec 32 := 0#32
  let v662 : BitVec 32 := Scalar.addi v661 c0_i32_390
  let c256_i32_391 : BitVec 32 := 256#32
  let v663 : BitVec 32 := Scalar.muli v662 c256_i32_391
  let c38_i32 : BitVec 32 := 38#32
  let v664 : BitVec 32 := Scalar.addi v663 c38_i32
  let c8_i32_395 : BitVec 32 := 8#32
  let v669 : BitVec 32 := Scalar.muli v664 c8_i32_395
  let v670 : BitVec 32 := v669
  let c0_i32_396 : BitVec 32 := 0#32
  ![v665.toNat, v670.toNat, 0]
def k0_off169 (v667 : BitVec 32) : Fin 2 → Nat :=
  let v668 : BitVec 32 := v667
  let c0_i32_397 : BitVec 32 := 0#32
  ![v668.toNat, 0]

def k0_chk40 (i : grid0.Coords) (v667 : BitVec 32) : Prop :=
  (∀ (k0_h2 : k0_cond2 i = 1#1), 8 ∣ (k0_mult79 v667).toNat) ∧
  (∀ (k0_h2 : k0_cond2 i = 1#1), ∀ a, (k0_off169 v667) a + S8x128.size a ≤ S131072x128.size a)
theorem k0_mult79_dvd : ∀ (i : grid0.Coords) (v667 : BitVec 32) (k0_hw40 : k0_chk40 i v667), ∀ (k0_h2 : k0_cond2 i = 1#1), 8 ∣ (k0_mult79 v667).toNat := fun i v667 k0_hw40 k0_h2 => k0_hw40.1 k0_h2
theorem k0_off169_inb : ∀ (i : grid0.Coords) (v667 : BitVec 32) (k0_hw40 : k0_chk40 i v667), ∀ (k0_h2 : k0_cond2 i = 1#1), ∀ a, (k0_off169 v667) a + S8x128.size a ≤ S131072x128.size a := fun i v667 k0_hw40 k0_h2 => k0_hw40.2 k0_h2

def k0_off170 (i : grid0.Coords) : Fin 3 → Nat :=
  let c0_402 : Index := 0#32
  let c0_403 : Index := 0#32
  let arg1 : BitVec 32 := BitVec.ofNat 32 (i 1).val
  let c2_i32_398 : BitVec 32 := 2#32
  let v676 : BitVec 32 := Scalar.muli arg1 c2_i32_398
  let c0_i32_399 : BitVec 32 := 0#32
  let v677 : BitVec 32 := Scalar.addi v676 c0_i32_399
  let c256_i32_400 : BitVec 32 := 256#32
  let v678 : BitVec 32 := Scalar.muli v677 c256_i32_400
  let c39_i32 : BitVec 32 := 39#32
  let v679 : BitVec 32 := Scalar.addi v678 c39_i32
  let v681 : Index := Scalar.indexCast v679
  ![0, 0, v681.toNat]
def k0_mult81 (v682 : BitVec 32) : BitVec 32 :=
  v682

def k0_mult82 (i : grid0.Coords) : BitVec 32 :=
  let arg1 : BitVec 32 := BitVec.ofNat 32 (i 1).val
  let c2_i32_398 : BitVec 32 := 2#32
  let v676 : BitVec 32 := Scalar.muli arg1 c2_i32_398
  let c0_i32_399 : BitVec 32 := 0#32
  let v677 : BitVec 32 := Scalar.addi v676 c0_i32_399
  let c256_i32_400 : BitVec 32 := 256#32
  let v678 : BitVec 32 := Scalar.muli v677 c256_i32_400
  let c39_i32 : BitVec 32 := 39#32
  let v679 : BitVec 32 := Scalar.addi v678 c39_i32
  let c8_i32_404 : BitVec 32 := 8#32
  let v684 : BitVec 32 := Scalar.muli v679 c8_i32_404
  v684
def k0_off171 (i : grid0.Coords) : Fin 1 → Nat :=
  let c1_i32_401 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v680 : BitVec 32 := Scalar.subi c1_i32_401 v9
  ![v680.toNat]
def k0_off172 (i : grid0.Coords) : Fin 3 → Nat :=
  let c1_i32_401 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v680 : BitVec 32 := Scalar.subi c1_i32_401 v9
  let arg1 : BitVec 32 := BitVec.ofNat 32 (i 1).val
  let c2_i32_398 : BitVec 32 := 2#32
  let v676 : BitVec 32 := Scalar.muli arg1 c2_i32_398
  let c0_i32_399 : BitVec 32 := 0#32
  let v677 : BitVec 32 := Scalar.addi v676 c0_i32_399
  let c256_i32_400 : BitVec 32 := 256#32
  let v678 : BitVec 32 := Scalar.muli v677 c256_i32_400
  let c39_i32 : BitVec 32 := 39#32
  let v679 : BitVec 32 := Scalar.addi v678 c39_i32
  let c8_i32_404 : BitVec 32 := 8#32
  let v684 : BitVec 32 := Scalar.muli v679 c8_i32_404
  let v685 : BitVec 32 := v684
  let c0_i32_405 : BitVec 32 := 0#32
  ![v680.toNat, v685.toNat, 0]
def k0_off173 (v682 : BitVec 32) : Fin 2 → Nat :=
  let v683 : BitVec 32 := v682
  let c0_i32_406 : BitVec 32 := 0#32
  ![v683.toNat, 0]

def k0_chk41 (i : grid0.Coords) (v682 : BitVec 32) : Prop :=
  (∀ (k0_h2 : k0_cond2 i = 1#1), 8 ∣ (k0_mult81 v682).toNat) ∧
  (∀ (k0_h2 : k0_cond2 i = 1#1), ∀ a, (k0_off173 v682) a + S8x128.size a ≤ S131072x128.size a)
theorem k0_mult81_dvd : ∀ (i : grid0.Coords) (v682 : BitVec 32) (k0_hw41 : k0_chk41 i v682), ∀ (k0_h2 : k0_cond2 i = 1#1), 8 ∣ (k0_mult81 v682).toNat := fun i v682 k0_hw41 k0_h2 => k0_hw41.1 k0_h2
theorem k0_off173_inb : ∀ (i : grid0.Coords) (v682 : BitVec 32) (k0_hw41 : k0_chk41 i v682), ∀ (k0_h2 : k0_cond2 i = 1#1), ∀ a, (k0_off173 v682) a + S8x128.size a ≤ S131072x128.size a := fun i v682 k0_hw41 k0_h2 => k0_hw41.2 k0_h2

def k0_off174 (i : grid0.Coords) : Fin 3 → Nat :=
  let c0_411 : Index := 0#32
  let c0_412 : Index := 0#32
  let arg1 : BitVec 32 := BitVec.ofNat 32 (i 1).val
  let c2_i32_407 : BitVec 32 := 2#32
  let v691 : BitVec 32 := Scalar.muli arg1 c2_i32_407
  let c0_i32_408 : BitVec 32 := 0#32
  let v692 : BitVec 32 := Scalar.addi v691 c0_i32_408
  let c256_i32_409 : BitVec 32 := 256#32
  let v693 : BitVec 32 := Scalar.muli v692 c256_i32_409
  let c40_i32 : BitVec 32 := 40#32
  let v694 : BitVec 32 := Scalar.addi v693 c40_i32
  let v696 : Index := Scalar.indexCast v694
  ![0, 0, v696.toNat]
def k0_mult83 (v697 : BitVec 32) : BitVec 32 :=
  v697

def k0_mult84 (i : grid0.Coords) : BitVec 32 :=
  let arg1 : BitVec 32 := BitVec.ofNat 32 (i 1).val
  let c2_i32_407 : BitVec 32 := 2#32
  let v691 : BitVec 32 := Scalar.muli arg1 c2_i32_407
  let c0_i32_408 : BitVec 32 := 0#32
  let v692 : BitVec 32 := Scalar.addi v691 c0_i32_408
  let c256_i32_409 : BitVec 32 := 256#32
  let v693 : BitVec 32 := Scalar.muli v692 c256_i32_409
  let c40_i32 : BitVec 32 := 40#32
  let v694 : BitVec 32 := Scalar.addi v693 c40_i32
  let c8_i32_413 : BitVec 32 := 8#32
  let v699 : BitVec 32 := Scalar.muli v694 c8_i32_413
  v699
def k0_off175 (i : grid0.Coords) : Fin 1 → Nat :=
  let c1_i32_410 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v695 : BitVec 32 := Scalar.subi c1_i32_410 v9
  ![v695.toNat]
def k0_off176 (i : grid0.Coords) : Fin 3 → Nat :=
  let c1_i32_410 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v695 : BitVec 32 := Scalar.subi c1_i32_410 v9
  let arg1 : BitVec 32 := BitVec.ofNat 32 (i 1).val
  let c2_i32_407 : BitVec 32 := 2#32
  let v691 : BitVec 32 := Scalar.muli arg1 c2_i32_407
  let c0_i32_408 : BitVec 32 := 0#32
  let v692 : BitVec 32 := Scalar.addi v691 c0_i32_408
  let c256_i32_409 : BitVec 32 := 256#32
  let v693 : BitVec 32 := Scalar.muli v692 c256_i32_409
  let c40_i32 : BitVec 32 := 40#32
  let v694 : BitVec 32 := Scalar.addi v693 c40_i32
  let c8_i32_413 : BitVec 32 := 8#32
  let v699 : BitVec 32 := Scalar.muli v694 c8_i32_413
  let v700 : BitVec 32 := v699
  let c0_i32_414 : BitVec 32 := 0#32
  ![v695.toNat, v700.toNat, 0]
def k0_off177 (v697 : BitVec 32) : Fin 2 → Nat :=
  let v698 : BitVec 32 := v697
  let c0_i32_415 : BitVec 32 := 0#32
  ![v698.toNat, 0]

def k0_chk42 (i : grid0.Coords) (v697 : BitVec 32) : Prop :=
  (∀ (k0_h2 : k0_cond2 i = 1#1), 8 ∣ (k0_mult83 v697).toNat) ∧
  (∀ (k0_h2 : k0_cond2 i = 1#1), ∀ a, (k0_off177 v697) a + S8x128.size a ≤ S131072x128.size a)
theorem k0_mult83_dvd : ∀ (i : grid0.Coords) (v697 : BitVec 32) (k0_hw42 : k0_chk42 i v697), ∀ (k0_h2 : k0_cond2 i = 1#1), 8 ∣ (k0_mult83 v697).toNat := fun i v697 k0_hw42 k0_h2 => k0_hw42.1 k0_h2
theorem k0_off177_inb : ∀ (i : grid0.Coords) (v697 : BitVec 32) (k0_hw42 : k0_chk42 i v697), ∀ (k0_h2 : k0_cond2 i = 1#1), ∀ a, (k0_off177 v697) a + S8x128.size a ≤ S131072x128.size a := fun i v697 k0_hw42 k0_h2 => k0_hw42.2 k0_h2

def k0_off178 (i : grid0.Coords) : Fin 3 → Nat :=
  let c0_420 : Index := 0#32
  let c0_421 : Index := 0#32
  let arg1 : BitVec 32 := BitVec.ofNat 32 (i 1).val
  let c2_i32_416 : BitVec 32 := 2#32
  let v706 : BitVec 32 := Scalar.muli arg1 c2_i32_416
  let c0_i32_417 : BitVec 32 := 0#32
  let v707 : BitVec 32 := Scalar.addi v706 c0_i32_417
  let c256_i32_418 : BitVec 32 := 256#32
  let v708 : BitVec 32 := Scalar.muli v707 c256_i32_418
  let c41_i32 : BitVec 32 := 41#32
  let v709 : BitVec 32 := Scalar.addi v708 c41_i32
  let v711 : Index := Scalar.indexCast v709
  ![0, 0, v711.toNat]
def k0_mult85 (v712 : BitVec 32) : BitVec 32 :=
  v712

def k0_mult86 (i : grid0.Coords) : BitVec 32 :=
  let arg1 : BitVec 32 := BitVec.ofNat 32 (i 1).val
  let c2_i32_416 : BitVec 32 := 2#32
  let v706 : BitVec 32 := Scalar.muli arg1 c2_i32_416
  let c0_i32_417 : BitVec 32 := 0#32
  let v707 : BitVec 32 := Scalar.addi v706 c0_i32_417
  let c256_i32_418 : BitVec 32 := 256#32
  let v708 : BitVec 32 := Scalar.muli v707 c256_i32_418
  let c41_i32 : BitVec 32 := 41#32
  let v709 : BitVec 32 := Scalar.addi v708 c41_i32
  let c8_i32_422 : BitVec 32 := 8#32
  let v714 : BitVec 32 := Scalar.muli v709 c8_i32_422
  v714
def k0_off179 (i : grid0.Coords) : Fin 1 → Nat :=
  let c1_i32_419 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v710 : BitVec 32 := Scalar.subi c1_i32_419 v9
  ![v710.toNat]
def k0_off180 (i : grid0.Coords) : Fin 3 → Nat :=
  let c1_i32_419 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v710 : BitVec 32 := Scalar.subi c1_i32_419 v9
  let arg1 : BitVec 32 := BitVec.ofNat 32 (i 1).val
  let c2_i32_416 : BitVec 32 := 2#32
  let v706 : BitVec 32 := Scalar.muli arg1 c2_i32_416
  let c0_i32_417 : BitVec 32 := 0#32
  let v707 : BitVec 32 := Scalar.addi v706 c0_i32_417
  let c256_i32_418 : BitVec 32 := 256#32
  let v708 : BitVec 32 := Scalar.muli v707 c256_i32_418
  let c41_i32 : BitVec 32 := 41#32
  let v709 : BitVec 32 := Scalar.addi v708 c41_i32
  let c8_i32_422 : BitVec 32 := 8#32
  let v714 : BitVec 32 := Scalar.muli v709 c8_i32_422
  let v715 : BitVec 32 := v714
  let c0_i32_423 : BitVec 32 := 0#32
  ![v710.toNat, v715.toNat, 0]
def k0_off181 (v712 : BitVec 32) : Fin 2 → Nat :=
  let v713 : BitVec 32 := v712
  let c0_i32_424 : BitVec 32 := 0#32
  ![v713.toNat, 0]

def k0_chk43 (i : grid0.Coords) (v712 : BitVec 32) : Prop :=
  (∀ (k0_h2 : k0_cond2 i = 1#1), 8 ∣ (k0_mult85 v712).toNat) ∧
  (∀ (k0_h2 : k0_cond2 i = 1#1), ∀ a, (k0_off181 v712) a + S8x128.size a ≤ S131072x128.size a)
theorem k0_mult85_dvd : ∀ (i : grid0.Coords) (v712 : BitVec 32) (k0_hw43 : k0_chk43 i v712), ∀ (k0_h2 : k0_cond2 i = 1#1), 8 ∣ (k0_mult85 v712).toNat := fun i v712 k0_hw43 k0_h2 => k0_hw43.1 k0_h2
theorem k0_off181_inb : ∀ (i : grid0.Coords) (v712 : BitVec 32) (k0_hw43 : k0_chk43 i v712), ∀ (k0_h2 : k0_cond2 i = 1#1), ∀ a, (k0_off181 v712) a + S8x128.size a ≤ S131072x128.size a := fun i v712 k0_hw43 k0_h2 => k0_hw43.2 k0_h2

def k0_off182 (i : grid0.Coords) : Fin 3 → Nat :=
  let c0_429 : Index := 0#32
  let c0_430 : Index := 0#32
  let arg1 : BitVec 32 := BitVec.ofNat 32 (i 1).val
  let c2_i32_425 : BitVec 32 := 2#32
  let v721 : BitVec 32 := Scalar.muli arg1 c2_i32_425
  let c0_i32_426 : BitVec 32 := 0#32
  let v722 : BitVec 32 := Scalar.addi v721 c0_i32_426
  let c256_i32_427 : BitVec 32 := 256#32
  let v723 : BitVec 32 := Scalar.muli v722 c256_i32_427
  let c42_i32 : BitVec 32 := 42#32
  let v724 : BitVec 32 := Scalar.addi v723 c42_i32
  let v726 : Index := Scalar.indexCast v724
  ![0, 0, v726.toNat]
def k0_mult87 (v727 : BitVec 32) : BitVec 32 :=
  v727

def k0_mult88 (i : grid0.Coords) : BitVec 32 :=
  let arg1 : BitVec 32 := BitVec.ofNat 32 (i 1).val
  let c2_i32_425 : BitVec 32 := 2#32
  let v721 : BitVec 32 := Scalar.muli arg1 c2_i32_425
  let c0_i32_426 : BitVec 32 := 0#32
  let v722 : BitVec 32 := Scalar.addi v721 c0_i32_426
  let c256_i32_427 : BitVec 32 := 256#32
  let v723 : BitVec 32 := Scalar.muli v722 c256_i32_427
  let c42_i32 : BitVec 32 := 42#32
  let v724 : BitVec 32 := Scalar.addi v723 c42_i32
  let c8_i32_431 : BitVec 32 := 8#32
  let v729 : BitVec 32 := Scalar.muli v724 c8_i32_431
  v729
def k0_off183 (i : grid0.Coords) : Fin 1 → Nat :=
  let c1_i32_428 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v725 : BitVec 32 := Scalar.subi c1_i32_428 v9
  ![v725.toNat]
def k0_off184 (i : grid0.Coords) : Fin 3 → Nat :=
  let c1_i32_428 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v725 : BitVec 32 := Scalar.subi c1_i32_428 v9
  let arg1 : BitVec 32 := BitVec.ofNat 32 (i 1).val
  let c2_i32_425 : BitVec 32 := 2#32
  let v721 : BitVec 32 := Scalar.muli arg1 c2_i32_425
  let c0_i32_426 : BitVec 32 := 0#32
  let v722 : BitVec 32 := Scalar.addi v721 c0_i32_426
  let c256_i32_427 : BitVec 32 := 256#32
  let v723 : BitVec 32 := Scalar.muli v722 c256_i32_427
  let c42_i32 : BitVec 32 := 42#32
  let v724 : BitVec 32 := Scalar.addi v723 c42_i32
  let c8_i32_431 : BitVec 32 := 8#32
  let v729 : BitVec 32 := Scalar.muli v724 c8_i32_431
  let v730 : BitVec 32 := v729
  let c0_i32_432 : BitVec 32 := 0#32
  ![v725.toNat, v730.toNat, 0]
def k0_off185 (v727 : BitVec 32) : Fin 2 → Nat :=
  let v728 : BitVec 32 := v727
  let c0_i32_433 : BitVec 32 := 0#32
  ![v728.toNat, 0]

def k0_chk44 (i : grid0.Coords) (v727 : BitVec 32) : Prop :=
  (∀ (k0_h2 : k0_cond2 i = 1#1), 8 ∣ (k0_mult87 v727).toNat) ∧
  (∀ (k0_h2 : k0_cond2 i = 1#1), ∀ a, (k0_off185 v727) a + S8x128.size a ≤ S131072x128.size a)
theorem k0_mult87_dvd : ∀ (i : grid0.Coords) (v727 : BitVec 32) (k0_hw44 : k0_chk44 i v727), ∀ (k0_h2 : k0_cond2 i = 1#1), 8 ∣ (k0_mult87 v727).toNat := fun i v727 k0_hw44 k0_h2 => k0_hw44.1 k0_h2
theorem k0_off185_inb : ∀ (i : grid0.Coords) (v727 : BitVec 32) (k0_hw44 : k0_chk44 i v727), ∀ (k0_h2 : k0_cond2 i = 1#1), ∀ a, (k0_off185 v727) a + S8x128.size a ≤ S131072x128.size a := fun i v727 k0_hw44 k0_h2 => k0_hw44.2 k0_h2

def k0_off186 (i : grid0.Coords) : Fin 3 → Nat :=
  let c0_438 : Index := 0#32
  let c0_439 : Index := 0#32
  let arg1 : BitVec 32 := BitVec.ofNat 32 (i 1).val
  let c2_i32_434 : BitVec 32 := 2#32
  let v736 : BitVec 32 := Scalar.muli arg1 c2_i32_434
  let c0_i32_435 : BitVec 32 := 0#32
  let v737 : BitVec 32 := Scalar.addi v736 c0_i32_435
  let c256_i32_436 : BitVec 32 := 256#32
  let v738 : BitVec 32 := Scalar.muli v737 c256_i32_436
  let c43_i32 : BitVec 32 := 43#32
  let v739 : BitVec 32 := Scalar.addi v738 c43_i32
  let v741 : Index := Scalar.indexCast v739
  ![0, 0, v741.toNat]
def k0_mult89 (v742 : BitVec 32) : BitVec 32 :=
  v742

def k0_mult90 (i : grid0.Coords) : BitVec 32 :=
  let arg1 : BitVec 32 := BitVec.ofNat 32 (i 1).val
  let c2_i32_434 : BitVec 32 := 2#32
  let v736 : BitVec 32 := Scalar.muli arg1 c2_i32_434
  let c0_i32_435 : BitVec 32 := 0#32
  let v737 : BitVec 32 := Scalar.addi v736 c0_i32_435
  let c256_i32_436 : BitVec 32 := 256#32
  let v738 : BitVec 32 := Scalar.muli v737 c256_i32_436
  let c43_i32 : BitVec 32 := 43#32
  let v739 : BitVec 32 := Scalar.addi v738 c43_i32
  let c8_i32_440 : BitVec 32 := 8#32
  let v744 : BitVec 32 := Scalar.muli v739 c8_i32_440
  v744
def k0_off187 (i : grid0.Coords) : Fin 1 → Nat :=
  let c1_i32_437 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v740 : BitVec 32 := Scalar.subi c1_i32_437 v9
  ![v740.toNat]
def k0_off188 (i : grid0.Coords) : Fin 3 → Nat :=
  let c1_i32_437 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v740 : BitVec 32 := Scalar.subi c1_i32_437 v9
  let arg1 : BitVec 32 := BitVec.ofNat 32 (i 1).val
  let c2_i32_434 : BitVec 32 := 2#32
  let v736 : BitVec 32 := Scalar.muli arg1 c2_i32_434
  let c0_i32_435 : BitVec 32 := 0#32
  let v737 : BitVec 32 := Scalar.addi v736 c0_i32_435
  let c256_i32_436 : BitVec 32 := 256#32
  let v738 : BitVec 32 := Scalar.muli v737 c256_i32_436
  let c43_i32 : BitVec 32 := 43#32
  let v739 : BitVec 32 := Scalar.addi v738 c43_i32
  let c8_i32_440 : BitVec 32 := 8#32
  let v744 : BitVec 32 := Scalar.muli v739 c8_i32_440
  let v745 : BitVec 32 := v744
  let c0_i32_441 : BitVec 32 := 0#32
  ![v740.toNat, v745.toNat, 0]
def k0_off189 (v742 : BitVec 32) : Fin 2 → Nat :=
  let v743 : BitVec 32 := v742
  let c0_i32_442 : BitVec 32 := 0#32
  ![v743.toNat, 0]

def k0_chk45 (i : grid0.Coords) (v742 : BitVec 32) : Prop :=
  (∀ (k0_h2 : k0_cond2 i = 1#1), 8 ∣ (k0_mult89 v742).toNat) ∧
  (∀ (k0_h2 : k0_cond2 i = 1#1), ∀ a, (k0_off189 v742) a + S8x128.size a ≤ S131072x128.size a)
theorem k0_mult89_dvd : ∀ (i : grid0.Coords) (v742 : BitVec 32) (k0_hw45 : k0_chk45 i v742), ∀ (k0_h2 : k0_cond2 i = 1#1), 8 ∣ (k0_mult89 v742).toNat := fun i v742 k0_hw45 k0_h2 => k0_hw45.1 k0_h2
theorem k0_off189_inb : ∀ (i : grid0.Coords) (v742 : BitVec 32) (k0_hw45 : k0_chk45 i v742), ∀ (k0_h2 : k0_cond2 i = 1#1), ∀ a, (k0_off189 v742) a + S8x128.size a ≤ S131072x128.size a := fun i v742 k0_hw45 k0_h2 => k0_hw45.2 k0_h2

def k0_off190 (i : grid0.Coords) : Fin 3 → Nat :=
  let c0_447 : Index := 0#32
  let c0_448 : Index := 0#32
  let arg1 : BitVec 32 := BitVec.ofNat 32 (i 1).val
  let c2_i32_443 : BitVec 32 := 2#32
  let v751 : BitVec 32 := Scalar.muli arg1 c2_i32_443
  let c0_i32_444 : BitVec 32 := 0#32
  let v752 : BitVec 32 := Scalar.addi v751 c0_i32_444
  let c256_i32_445 : BitVec 32 := 256#32
  let v753 : BitVec 32 := Scalar.muli v752 c256_i32_445
  let c44_i32 : BitVec 32 := 44#32
  let v754 : BitVec 32 := Scalar.addi v753 c44_i32
  let v756 : Index := Scalar.indexCast v754
  ![0, 0, v756.toNat]
def k0_mult91 (v757 : BitVec 32) : BitVec 32 :=
  v757

def k0_mult92 (i : grid0.Coords) : BitVec 32 :=
  let arg1 : BitVec 32 := BitVec.ofNat 32 (i 1).val
  let c2_i32_443 : BitVec 32 := 2#32
  let v751 : BitVec 32 := Scalar.muli arg1 c2_i32_443
  let c0_i32_444 : BitVec 32 := 0#32
  let v752 : BitVec 32 := Scalar.addi v751 c0_i32_444
  let c256_i32_445 : BitVec 32 := 256#32
  let v753 : BitVec 32 := Scalar.muli v752 c256_i32_445
  let c44_i32 : BitVec 32 := 44#32
  let v754 : BitVec 32 := Scalar.addi v753 c44_i32
  let c8_i32_449 : BitVec 32 := 8#32
  let v759 : BitVec 32 := Scalar.muli v754 c8_i32_449
  v759
def k0_off191 (i : grid0.Coords) : Fin 1 → Nat :=
  let c1_i32_446 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v755 : BitVec 32 := Scalar.subi c1_i32_446 v9
  ![v755.toNat]
def k0_off192 (i : grid0.Coords) : Fin 3 → Nat :=
  let c1_i32_446 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v755 : BitVec 32 := Scalar.subi c1_i32_446 v9
  let arg1 : BitVec 32 := BitVec.ofNat 32 (i 1).val
  let c2_i32_443 : BitVec 32 := 2#32
  let v751 : BitVec 32 := Scalar.muli arg1 c2_i32_443
  let c0_i32_444 : BitVec 32 := 0#32
  let v752 : BitVec 32 := Scalar.addi v751 c0_i32_444
  let c256_i32_445 : BitVec 32 := 256#32
  let v753 : BitVec 32 := Scalar.muli v752 c256_i32_445
  let c44_i32 : BitVec 32 := 44#32
  let v754 : BitVec 32 := Scalar.addi v753 c44_i32
  let c8_i32_449 : BitVec 32 := 8#32
  let v759 : BitVec 32 := Scalar.muli v754 c8_i32_449
  let v760 : BitVec 32 := v759
  let c0_i32_450 : BitVec 32 := 0#32
  ![v755.toNat, v760.toNat, 0]
def k0_off193 (v757 : BitVec 32) : Fin 2 → Nat :=
  let v758 : BitVec 32 := v757
  let c0_i32_451 : BitVec 32 := 0#32
  ![v758.toNat, 0]

def k0_chk46 (i : grid0.Coords) (v757 : BitVec 32) : Prop :=
  (∀ (k0_h2 : k0_cond2 i = 1#1), 8 ∣ (k0_mult91 v757).toNat) ∧
  (∀ (k0_h2 : k0_cond2 i = 1#1), ∀ a, (k0_off193 v757) a + S8x128.size a ≤ S131072x128.size a)
theorem k0_mult91_dvd : ∀ (i : grid0.Coords) (v757 : BitVec 32) (k0_hw46 : k0_chk46 i v757), ∀ (k0_h2 : k0_cond2 i = 1#1), 8 ∣ (k0_mult91 v757).toNat := fun i v757 k0_hw46 k0_h2 => k0_hw46.1 k0_h2
theorem k0_off193_inb : ∀ (i : grid0.Coords) (v757 : BitVec 32) (k0_hw46 : k0_chk46 i v757), ∀ (k0_h2 : k0_cond2 i = 1#1), ∀ a, (k0_off193 v757) a + S8x128.size a ≤ S131072x128.size a := fun i v757 k0_hw46 k0_h2 => k0_hw46.2 k0_h2

def k0_off194 (i : grid0.Coords) : Fin 3 → Nat :=
  let c0_456 : Index := 0#32
  let c0_457 : Index := 0#32
  let arg1 : BitVec 32 := BitVec.ofNat 32 (i 1).val
  let c2_i32_452 : BitVec 32 := 2#32
  let v766 : BitVec 32 := Scalar.muli arg1 c2_i32_452
  let c0_i32_453 : BitVec 32 := 0#32
  let v767 : BitVec 32 := Scalar.addi v766 c0_i32_453
  let c256_i32_454 : BitVec 32 := 256#32
  let v768 : BitVec 32 := Scalar.muli v767 c256_i32_454
  let c45_i32 : BitVec 32 := 45#32
  let v769 : BitVec 32 := Scalar.addi v768 c45_i32
  let v771 : Index := Scalar.indexCast v769
  ![0, 0, v771.toNat]
def k0_mult93 (v772 : BitVec 32) : BitVec 32 :=
  v772

def k0_mult94 (i : grid0.Coords) : BitVec 32 :=
  let arg1 : BitVec 32 := BitVec.ofNat 32 (i 1).val
  let c2_i32_452 : BitVec 32 := 2#32
  let v766 : BitVec 32 := Scalar.muli arg1 c2_i32_452
  let c0_i32_453 : BitVec 32 := 0#32
  let v767 : BitVec 32 := Scalar.addi v766 c0_i32_453
  let c256_i32_454 : BitVec 32 := 256#32
  let v768 : BitVec 32 := Scalar.muli v767 c256_i32_454
  let c45_i32 : BitVec 32 := 45#32
  let v769 : BitVec 32 := Scalar.addi v768 c45_i32
  let c8_i32_458 : BitVec 32 := 8#32
  let v774 : BitVec 32 := Scalar.muli v769 c8_i32_458
  v774
def k0_off195 (i : grid0.Coords) : Fin 1 → Nat :=
  let c1_i32_455 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v770 : BitVec 32 := Scalar.subi c1_i32_455 v9
  ![v770.toNat]
def k0_off196 (i : grid0.Coords) : Fin 3 → Nat :=
  let c1_i32_455 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v770 : BitVec 32 := Scalar.subi c1_i32_455 v9
  let arg1 : BitVec 32 := BitVec.ofNat 32 (i 1).val
  let c2_i32_452 : BitVec 32 := 2#32
  let v766 : BitVec 32 := Scalar.muli arg1 c2_i32_452
  let c0_i32_453 : BitVec 32 := 0#32
  let v767 : BitVec 32 := Scalar.addi v766 c0_i32_453
  let c256_i32_454 : BitVec 32 := 256#32
  let v768 : BitVec 32 := Scalar.muli v767 c256_i32_454
  let c45_i32 : BitVec 32 := 45#32
  let v769 : BitVec 32 := Scalar.addi v768 c45_i32
  let c8_i32_458 : BitVec 32 := 8#32
  let v774 : BitVec 32 := Scalar.muli v769 c8_i32_458
  let v775 : BitVec 32 := v774
  let c0_i32_459 : BitVec 32 := 0#32
  ![v770.toNat, v775.toNat, 0]
def k0_off197 (v772 : BitVec 32) : Fin 2 → Nat :=
  let v773 : BitVec 32 := v772
  let c0_i32_460 : BitVec 32 := 0#32
  ![v773.toNat, 0]

def k0_chk47 (i : grid0.Coords) (v772 : BitVec 32) : Prop :=
  (∀ (k0_h2 : k0_cond2 i = 1#1), 8 ∣ (k0_mult93 v772).toNat) ∧
  (∀ (k0_h2 : k0_cond2 i = 1#1), ∀ a, (k0_off197 v772) a + S8x128.size a ≤ S131072x128.size a)
theorem k0_mult93_dvd : ∀ (i : grid0.Coords) (v772 : BitVec 32) (k0_hw47 : k0_chk47 i v772), ∀ (k0_h2 : k0_cond2 i = 1#1), 8 ∣ (k0_mult93 v772).toNat := fun i v772 k0_hw47 k0_h2 => k0_hw47.1 k0_h2
theorem k0_off197_inb : ∀ (i : grid0.Coords) (v772 : BitVec 32) (k0_hw47 : k0_chk47 i v772), ∀ (k0_h2 : k0_cond2 i = 1#1), ∀ a, (k0_off197 v772) a + S8x128.size a ≤ S131072x128.size a := fun i v772 k0_hw47 k0_h2 => k0_hw47.2 k0_h2

def k0_off198 (i : grid0.Coords) : Fin 3 → Nat :=
  let c0_465 : Index := 0#32
  let c0_466 : Index := 0#32
  let arg1 : BitVec 32 := BitVec.ofNat 32 (i 1).val
  let c2_i32_461 : BitVec 32 := 2#32
  let v781 : BitVec 32 := Scalar.muli arg1 c2_i32_461
  let c0_i32_462 : BitVec 32 := 0#32
  let v782 : BitVec 32 := Scalar.addi v781 c0_i32_462
  let c256_i32_463 : BitVec 32 := 256#32
  let v783 : BitVec 32 := Scalar.muli v782 c256_i32_463
  let c46_i32 : BitVec 32 := 46#32
  let v784 : BitVec 32 := Scalar.addi v783 c46_i32
  let v786 : Index := Scalar.indexCast v784
  ![0, 0, v786.toNat]
def k0_mult95 (v787 : BitVec 32) : BitVec 32 :=
  v787

def k0_mult96 (i : grid0.Coords) : BitVec 32 :=
  let arg1 : BitVec 32 := BitVec.ofNat 32 (i 1).val
  let c2_i32_461 : BitVec 32 := 2#32
  let v781 : BitVec 32 := Scalar.muli arg1 c2_i32_461
  let c0_i32_462 : BitVec 32 := 0#32
  let v782 : BitVec 32 := Scalar.addi v781 c0_i32_462
  let c256_i32_463 : BitVec 32 := 256#32
  let v783 : BitVec 32 := Scalar.muli v782 c256_i32_463
  let c46_i32 : BitVec 32 := 46#32
  let v784 : BitVec 32 := Scalar.addi v783 c46_i32
  let c8_i32_467 : BitVec 32 := 8#32
  let v789 : BitVec 32 := Scalar.muli v784 c8_i32_467
  v789
def k0_off199 (i : grid0.Coords) : Fin 1 → Nat :=
  let c1_i32_464 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v785 : BitVec 32 := Scalar.subi c1_i32_464 v9
  ![v785.toNat]
def k0_off200 (i : grid0.Coords) : Fin 3 → Nat :=
  let c1_i32_464 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v785 : BitVec 32 := Scalar.subi c1_i32_464 v9
  let arg1 : BitVec 32 := BitVec.ofNat 32 (i 1).val
  let c2_i32_461 : BitVec 32 := 2#32
  let v781 : BitVec 32 := Scalar.muli arg1 c2_i32_461
  let c0_i32_462 : BitVec 32 := 0#32
  let v782 : BitVec 32 := Scalar.addi v781 c0_i32_462
  let c256_i32_463 : BitVec 32 := 256#32
  let v783 : BitVec 32 := Scalar.muli v782 c256_i32_463
  let c46_i32 : BitVec 32 := 46#32
  let v784 : BitVec 32 := Scalar.addi v783 c46_i32
  let c8_i32_467 : BitVec 32 := 8#32
  let v789 : BitVec 32 := Scalar.muli v784 c8_i32_467
  let v790 : BitVec 32 := v789
  let c0_i32_468 : BitVec 32 := 0#32
  ![v785.toNat, v790.toNat, 0]
def k0_off201 (v787 : BitVec 32) : Fin 2 → Nat :=
  let v788 : BitVec 32 := v787
  let c0_i32_469 : BitVec 32 := 0#32
  ![v788.toNat, 0]

def k0_chk48 (i : grid0.Coords) (v787 : BitVec 32) : Prop :=
  (∀ (k0_h2 : k0_cond2 i = 1#1), 8 ∣ (k0_mult95 v787).toNat) ∧
  (∀ (k0_h2 : k0_cond2 i = 1#1), ∀ a, (k0_off201 v787) a + S8x128.size a ≤ S131072x128.size a)
theorem k0_mult95_dvd : ∀ (i : grid0.Coords) (v787 : BitVec 32) (k0_hw48 : k0_chk48 i v787), ∀ (k0_h2 : k0_cond2 i = 1#1), 8 ∣ (k0_mult95 v787).toNat := fun i v787 k0_hw48 k0_h2 => k0_hw48.1 k0_h2
theorem k0_off201_inb : ∀ (i : grid0.Coords) (v787 : BitVec 32) (k0_hw48 : k0_chk48 i v787), ∀ (k0_h2 : k0_cond2 i = 1#1), ∀ a, (k0_off201 v787) a + S8x128.size a ≤ S131072x128.size a := fun i v787 k0_hw48 k0_h2 => k0_hw48.2 k0_h2

def k0_off202 (i : grid0.Coords) : Fin 3 → Nat :=
  let c0_474 : Index := 0#32
  let c0_475 : Index := 0#32
  let arg1 : BitVec 32 := BitVec.ofNat 32 (i 1).val
  let c2_i32_470 : BitVec 32 := 2#32
  let v796 : BitVec 32 := Scalar.muli arg1 c2_i32_470
  let c0_i32_471 : BitVec 32 := 0#32
  let v797 : BitVec 32 := Scalar.addi v796 c0_i32_471
  let c256_i32_472 : BitVec 32 := 256#32
  let v798 : BitVec 32 := Scalar.muli v797 c256_i32_472
  let c47_i32 : BitVec 32 := 47#32
  let v799 : BitVec 32 := Scalar.addi v798 c47_i32
  let v801 : Index := Scalar.indexCast v799
  ![0, 0, v801.toNat]
def k0_mult97 (v802 : BitVec 32) : BitVec 32 :=
  v802

def k0_mult98 (i : grid0.Coords) : BitVec 32 :=
  let arg1 : BitVec 32 := BitVec.ofNat 32 (i 1).val
  let c2_i32_470 : BitVec 32 := 2#32
  let v796 : BitVec 32 := Scalar.muli arg1 c2_i32_470
  let c0_i32_471 : BitVec 32 := 0#32
  let v797 : BitVec 32 := Scalar.addi v796 c0_i32_471
  let c256_i32_472 : BitVec 32 := 256#32
  let v798 : BitVec 32 := Scalar.muli v797 c256_i32_472
  let c47_i32 : BitVec 32 := 47#32
  let v799 : BitVec 32 := Scalar.addi v798 c47_i32
  let c8_i32_476 : BitVec 32 := 8#32
  let v804 : BitVec 32 := Scalar.muli v799 c8_i32_476
  v804
def k0_off203 (i : grid0.Coords) : Fin 1 → Nat :=
  let c1_i32_473 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v800 : BitVec 32 := Scalar.subi c1_i32_473 v9
  ![v800.toNat]
def k0_off204 (i : grid0.Coords) : Fin 3 → Nat :=
  let c1_i32_473 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v800 : BitVec 32 := Scalar.subi c1_i32_473 v9
  let arg1 : BitVec 32 := BitVec.ofNat 32 (i 1).val
  let c2_i32_470 : BitVec 32 := 2#32
  let v796 : BitVec 32 := Scalar.muli arg1 c2_i32_470
  let c0_i32_471 : BitVec 32 := 0#32
  let v797 : BitVec 32 := Scalar.addi v796 c0_i32_471
  let c256_i32_472 : BitVec 32 := 256#32
  let v798 : BitVec 32 := Scalar.muli v797 c256_i32_472
  let c47_i32 : BitVec 32 := 47#32
  let v799 : BitVec 32 := Scalar.addi v798 c47_i32
  let c8_i32_476 : BitVec 32 := 8#32
  let v804 : BitVec 32 := Scalar.muli v799 c8_i32_476
  let v805 : BitVec 32 := v804
  let c0_i32_477 : BitVec 32 := 0#32
  ![v800.toNat, v805.toNat, 0]
def k0_off205 (v802 : BitVec 32) : Fin 2 → Nat :=
  let v803 : BitVec 32 := v802
  let c0_i32_478 : BitVec 32 := 0#32
  ![v803.toNat, 0]

def k0_chk49 (i : grid0.Coords) (v802 : BitVec 32) : Prop :=
  (∀ (k0_h2 : k0_cond2 i = 1#1), 8 ∣ (k0_mult97 v802).toNat) ∧
  (∀ (k0_h2 : k0_cond2 i = 1#1), ∀ a, (k0_off205 v802) a + S8x128.size a ≤ S131072x128.size a)
theorem k0_mult97_dvd : ∀ (i : grid0.Coords) (v802 : BitVec 32) (k0_hw49 : k0_chk49 i v802), ∀ (k0_h2 : k0_cond2 i = 1#1), 8 ∣ (k0_mult97 v802).toNat := fun i v802 k0_hw49 k0_h2 => k0_hw49.1 k0_h2
theorem k0_off205_inb : ∀ (i : grid0.Coords) (v802 : BitVec 32) (k0_hw49 : k0_chk49 i v802), ∀ (k0_h2 : k0_cond2 i = 1#1), ∀ a, (k0_off205 v802) a + S8x128.size a ≤ S131072x128.size a := fun i v802 k0_hw49 k0_h2 => k0_hw49.2 k0_h2

def k0_off206 (i : grid0.Coords) : Fin 3 → Nat :=
  let c0_483 : Index := 0#32
  let c0_484 : Index := 0#32
  let arg1 : BitVec 32 := BitVec.ofNat 32 (i 1).val
  let c2_i32_479 : BitVec 32 := 2#32
  let v811 : BitVec 32 := Scalar.muli arg1 c2_i32_479
  let c0_i32_480 : BitVec 32 := 0#32
  let v812 : BitVec 32 := Scalar.addi v811 c0_i32_480
  let c256_i32_481 : BitVec 32 := 256#32
  let v813 : BitVec 32 := Scalar.muli v812 c256_i32_481
  let c48_i32 : BitVec 32 := 48#32
  let v814 : BitVec 32 := Scalar.addi v813 c48_i32
  let v816 : Index := Scalar.indexCast v814
  ![0, 0, v816.toNat]
def k0_mult99 (v817 : BitVec 32) : BitVec 32 :=
  v817

def k0_mult100 (i : grid0.Coords) : BitVec 32 :=
  let arg1 : BitVec 32 := BitVec.ofNat 32 (i 1).val
  let c2_i32_479 : BitVec 32 := 2#32
  let v811 : BitVec 32 := Scalar.muli arg1 c2_i32_479
  let c0_i32_480 : BitVec 32 := 0#32
  let v812 : BitVec 32 := Scalar.addi v811 c0_i32_480
  let c256_i32_481 : BitVec 32 := 256#32
  let v813 : BitVec 32 := Scalar.muli v812 c256_i32_481
  let c48_i32 : BitVec 32 := 48#32
  let v814 : BitVec 32 := Scalar.addi v813 c48_i32
  let c8_i32_485 : BitVec 32 := 8#32
  let v819 : BitVec 32 := Scalar.muli v814 c8_i32_485
  v819
def k0_off207 (i : grid0.Coords) : Fin 1 → Nat :=
  let c1_i32_482 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v815 : BitVec 32 := Scalar.subi c1_i32_482 v9
  ![v815.toNat]
def k0_off208 (i : grid0.Coords) : Fin 3 → Nat :=
  let c1_i32_482 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v815 : BitVec 32 := Scalar.subi c1_i32_482 v9
  let arg1 : BitVec 32 := BitVec.ofNat 32 (i 1).val
  let c2_i32_479 : BitVec 32 := 2#32
  let v811 : BitVec 32 := Scalar.muli arg1 c2_i32_479
  let c0_i32_480 : BitVec 32 := 0#32
  let v812 : BitVec 32 := Scalar.addi v811 c0_i32_480
  let c256_i32_481 : BitVec 32 := 256#32
  let v813 : BitVec 32 := Scalar.muli v812 c256_i32_481
  let c48_i32 : BitVec 32 := 48#32
  let v814 : BitVec 32 := Scalar.addi v813 c48_i32
  let c8_i32_485 : BitVec 32 := 8#32
  let v819 : BitVec 32 := Scalar.muli v814 c8_i32_485
  let v820 : BitVec 32 := v819
  let c0_i32_486 : BitVec 32 := 0#32
  ![v815.toNat, v820.toNat, 0]
def k0_off209 (v817 : BitVec 32) : Fin 2 → Nat :=
  let v818 : BitVec 32 := v817
  let c0_i32_487 : BitVec 32 := 0#32
  ![v818.toNat, 0]

def k0_chk50 (i : grid0.Coords) (v817 : BitVec 32) : Prop :=
  (∀ (k0_h2 : k0_cond2 i = 1#1), 8 ∣ (k0_mult99 v817).toNat) ∧
  (∀ (k0_h2 : k0_cond2 i = 1#1), ∀ a, (k0_off209 v817) a + S8x128.size a ≤ S131072x128.size a)
theorem k0_mult99_dvd : ∀ (i : grid0.Coords) (v817 : BitVec 32) (k0_hw50 : k0_chk50 i v817), ∀ (k0_h2 : k0_cond2 i = 1#1), 8 ∣ (k0_mult99 v817).toNat := fun i v817 k0_hw50 k0_h2 => k0_hw50.1 k0_h2
theorem k0_off209_inb : ∀ (i : grid0.Coords) (v817 : BitVec 32) (k0_hw50 : k0_chk50 i v817), ∀ (k0_h2 : k0_cond2 i = 1#1), ∀ a, (k0_off209 v817) a + S8x128.size a ≤ S131072x128.size a := fun i v817 k0_hw50 k0_h2 => k0_hw50.2 k0_h2

def k0_off210 (i : grid0.Coords) : Fin 3 → Nat :=
  let c0_492 : Index := 0#32
  let c0_493 : Index := 0#32
  let arg1 : BitVec 32 := BitVec.ofNat 32 (i 1).val
  let c2_i32_488 : BitVec 32 := 2#32
  let v826 : BitVec 32 := Scalar.muli arg1 c2_i32_488
  let c0_i32_489 : BitVec 32 := 0#32
  let v827 : BitVec 32 := Scalar.addi v826 c0_i32_489
  let c256_i32_490 : BitVec 32 := 256#32
  let v828 : BitVec 32 := Scalar.muli v827 c256_i32_490
  let c49_i32 : BitVec 32 := 49#32
  let v829 : BitVec 32 := Scalar.addi v828 c49_i32
  let v831 : Index := Scalar.indexCast v829
  ![0, 0, v831.toNat]
def k0_mult101 (v832 : BitVec 32) : BitVec 32 :=
  v832

def k0_mult102 (i : grid0.Coords) : BitVec 32 :=
  let arg1 : BitVec 32 := BitVec.ofNat 32 (i 1).val
  let c2_i32_488 : BitVec 32 := 2#32
  let v826 : BitVec 32 := Scalar.muli arg1 c2_i32_488
  let c0_i32_489 : BitVec 32 := 0#32
  let v827 : BitVec 32 := Scalar.addi v826 c0_i32_489
  let c256_i32_490 : BitVec 32 := 256#32
  let v828 : BitVec 32 := Scalar.muli v827 c256_i32_490
  let c49_i32 : BitVec 32 := 49#32
  let v829 : BitVec 32 := Scalar.addi v828 c49_i32
  let c8_i32_494 : BitVec 32 := 8#32
  let v834 : BitVec 32 := Scalar.muli v829 c8_i32_494
  v834
def k0_off211 (i : grid0.Coords) : Fin 1 → Nat :=
  let c1_i32_491 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v830 : BitVec 32 := Scalar.subi c1_i32_491 v9
  ![v830.toNat]
def k0_off212 (i : grid0.Coords) : Fin 3 → Nat :=
  let c1_i32_491 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v830 : BitVec 32 := Scalar.subi c1_i32_491 v9
  let arg1 : BitVec 32 := BitVec.ofNat 32 (i 1).val
  let c2_i32_488 : BitVec 32 := 2#32
  let v826 : BitVec 32 := Scalar.muli arg1 c2_i32_488
  let c0_i32_489 : BitVec 32 := 0#32
  let v827 : BitVec 32 := Scalar.addi v826 c0_i32_489
  let c256_i32_490 : BitVec 32 := 256#32
  let v828 : BitVec 32 := Scalar.muli v827 c256_i32_490
  let c49_i32 : BitVec 32 := 49#32
  let v829 : BitVec 32 := Scalar.addi v828 c49_i32
  let c8_i32_494 : BitVec 32 := 8#32
  let v834 : BitVec 32 := Scalar.muli v829 c8_i32_494
  let v835 : BitVec 32 := v834
  let c0_i32_495 : BitVec 32 := 0#32
  ![v830.toNat, v835.toNat, 0]
def k0_off213 (v832 : BitVec 32) : Fin 2 → Nat :=
  let v833 : BitVec 32 := v832
  let c0_i32_496 : BitVec 32 := 0#32
  ![v833.toNat, 0]

def k0_chk51 (i : grid0.Coords) (v832 : BitVec 32) : Prop :=
  (∀ (k0_h2 : k0_cond2 i = 1#1), 8 ∣ (k0_mult101 v832).toNat) ∧
  (∀ (k0_h2 : k0_cond2 i = 1#1), ∀ a, (k0_off213 v832) a + S8x128.size a ≤ S131072x128.size a)
theorem k0_mult101_dvd : ∀ (i : grid0.Coords) (v832 : BitVec 32) (k0_hw51 : k0_chk51 i v832), ∀ (k0_h2 : k0_cond2 i = 1#1), 8 ∣ (k0_mult101 v832).toNat := fun i v832 k0_hw51 k0_h2 => k0_hw51.1 k0_h2
theorem k0_off213_inb : ∀ (i : grid0.Coords) (v832 : BitVec 32) (k0_hw51 : k0_chk51 i v832), ∀ (k0_h2 : k0_cond2 i = 1#1), ∀ a, (k0_off213 v832) a + S8x128.size a ≤ S131072x128.size a := fun i v832 k0_hw51 k0_h2 => k0_hw51.2 k0_h2

def k0_off214 (i : grid0.Coords) : Fin 3 → Nat :=
  let c0_501 : Index := 0#32
  let c0_502 : Index := 0#32
  let arg1 : BitVec 32 := BitVec.ofNat 32 (i 1).val
  let c2_i32_497 : BitVec 32 := 2#32
  let v841 : BitVec 32 := Scalar.muli arg1 c2_i32_497
  let c0_i32_498 : BitVec 32 := 0#32
  let v842 : BitVec 32 := Scalar.addi v841 c0_i32_498
  let c256_i32_499 : BitVec 32 := 256#32
  let v843 : BitVec 32 := Scalar.muli v842 c256_i32_499
  let c50_i32 : BitVec 32 := 50#32
  let v844 : BitVec 32 := Scalar.addi v843 c50_i32
  let v846 : Index := Scalar.indexCast v844
  ![0, 0, v846.toNat]
def k0_mult103 (v847 : BitVec 32) : BitVec 32 :=
  v847

def k0_mult104 (i : grid0.Coords) : BitVec 32 :=
  let arg1 : BitVec 32 := BitVec.ofNat 32 (i 1).val
  let c2_i32_497 : BitVec 32 := 2#32
  let v841 : BitVec 32 := Scalar.muli arg1 c2_i32_497
  let c0_i32_498 : BitVec 32 := 0#32
  let v842 : BitVec 32 := Scalar.addi v841 c0_i32_498
  let c256_i32_499 : BitVec 32 := 256#32
  let v843 : BitVec 32 := Scalar.muli v842 c256_i32_499
  let c50_i32 : BitVec 32 := 50#32
  let v844 : BitVec 32 := Scalar.addi v843 c50_i32
  let c8_i32_503 : BitVec 32 := 8#32
  let v849 : BitVec 32 := Scalar.muli v844 c8_i32_503
  v849
def k0_off215 (i : grid0.Coords) : Fin 1 → Nat :=
  let c1_i32_500 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v845 : BitVec 32 := Scalar.subi c1_i32_500 v9
  ![v845.toNat]
def k0_off216 (i : grid0.Coords) : Fin 3 → Nat :=
  let c1_i32_500 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v845 : BitVec 32 := Scalar.subi c1_i32_500 v9
  let arg1 : BitVec 32 := BitVec.ofNat 32 (i 1).val
  let c2_i32_497 : BitVec 32 := 2#32
  let v841 : BitVec 32 := Scalar.muli arg1 c2_i32_497
  let c0_i32_498 : BitVec 32 := 0#32
  let v842 : BitVec 32 := Scalar.addi v841 c0_i32_498
  let c256_i32_499 : BitVec 32 := 256#32
  let v843 : BitVec 32 := Scalar.muli v842 c256_i32_499
  let c50_i32 : BitVec 32 := 50#32
  let v844 : BitVec 32 := Scalar.addi v843 c50_i32
  let c8_i32_503 : BitVec 32 := 8#32
  let v849 : BitVec 32 := Scalar.muli v844 c8_i32_503
  let v850 : BitVec 32 := v849
  let c0_i32_504 : BitVec 32 := 0#32
  ![v845.toNat, v850.toNat, 0]
def k0_off217 (v847 : BitVec 32) : Fin 2 → Nat :=
  let v848 : BitVec 32 := v847
  let c0_i32_505 : BitVec 32 := 0#32
  ![v848.toNat, 0]

def k0_chk52 (i : grid0.Coords) (v847 : BitVec 32) : Prop :=
  (∀ (k0_h2 : k0_cond2 i = 1#1), 8 ∣ (k0_mult103 v847).toNat) ∧
  (∀ (k0_h2 : k0_cond2 i = 1#1), ∀ a, (k0_off217 v847) a + S8x128.size a ≤ S131072x128.size a)
theorem k0_mult103_dvd : ∀ (i : grid0.Coords) (v847 : BitVec 32) (k0_hw52 : k0_chk52 i v847), ∀ (k0_h2 : k0_cond2 i = 1#1), 8 ∣ (k0_mult103 v847).toNat := fun i v847 k0_hw52 k0_h2 => k0_hw52.1 k0_h2
theorem k0_off217_inb : ∀ (i : grid0.Coords) (v847 : BitVec 32) (k0_hw52 : k0_chk52 i v847), ∀ (k0_h2 : k0_cond2 i = 1#1), ∀ a, (k0_off217 v847) a + S8x128.size a ≤ S131072x128.size a := fun i v847 k0_hw52 k0_h2 => k0_hw52.2 k0_h2

def k0_off218 (i : grid0.Coords) : Fin 3 → Nat :=
  let c0_510 : Index := 0#32
  let c0_511 : Index := 0#32
  let arg1 : BitVec 32 := BitVec.ofNat 32 (i 1).val
  let c2_i32_506 : BitVec 32 := 2#32
  let v856 : BitVec 32 := Scalar.muli arg1 c2_i32_506
  let c0_i32_507 : BitVec 32 := 0#32
  let v857 : BitVec 32 := Scalar.addi v856 c0_i32_507
  let c256_i32_508 : BitVec 32 := 256#32
  let v858 : BitVec 32 := Scalar.muli v857 c256_i32_508
  let c51_i32 : BitVec 32 := 51#32
  let v859 : BitVec 32 := Scalar.addi v858 c51_i32
  let v861 : Index := Scalar.indexCast v859
  ![0, 0, v861.toNat]
def k0_mult105 (v862 : BitVec 32) : BitVec 32 :=
  v862

def k0_mult106 (i : grid0.Coords) : BitVec 32 :=
  let arg1 : BitVec 32 := BitVec.ofNat 32 (i 1).val
  let c2_i32_506 : BitVec 32 := 2#32
  let v856 : BitVec 32 := Scalar.muli arg1 c2_i32_506
  let c0_i32_507 : BitVec 32 := 0#32
  let v857 : BitVec 32 := Scalar.addi v856 c0_i32_507
  let c256_i32_508 : BitVec 32 := 256#32
  let v858 : BitVec 32 := Scalar.muli v857 c256_i32_508
  let c51_i32 : BitVec 32 := 51#32
  let v859 : BitVec 32 := Scalar.addi v858 c51_i32
  let c8_i32_512 : BitVec 32 := 8#32
  let v864 : BitVec 32 := Scalar.muli v859 c8_i32_512
  v864
def k0_off219 (i : grid0.Coords) : Fin 1 → Nat :=
  let c1_i32_509 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v860 : BitVec 32 := Scalar.subi c1_i32_509 v9
  ![v860.toNat]
def k0_off220 (i : grid0.Coords) : Fin 3 → Nat :=
  let c1_i32_509 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v860 : BitVec 32 := Scalar.subi c1_i32_509 v9
  let arg1 : BitVec 32 := BitVec.ofNat 32 (i 1).val
  let c2_i32_506 : BitVec 32 := 2#32
  let v856 : BitVec 32 := Scalar.muli arg1 c2_i32_506
  let c0_i32_507 : BitVec 32 := 0#32
  let v857 : BitVec 32 := Scalar.addi v856 c0_i32_507
  let c256_i32_508 : BitVec 32 := 256#32
  let v858 : BitVec 32 := Scalar.muli v857 c256_i32_508
  let c51_i32 : BitVec 32 := 51#32
  let v859 : BitVec 32 := Scalar.addi v858 c51_i32
  let c8_i32_512 : BitVec 32 := 8#32
  let v864 : BitVec 32 := Scalar.muli v859 c8_i32_512
  let v865 : BitVec 32 := v864
  let c0_i32_513 : BitVec 32 := 0#32
  ![v860.toNat, v865.toNat, 0]
def k0_off221 (v862 : BitVec 32) : Fin 2 → Nat :=
  let v863 : BitVec 32 := v862
  let c0_i32_514 : BitVec 32 := 0#32
  ![v863.toNat, 0]

def k0_chk53 (i : grid0.Coords) (v862 : BitVec 32) : Prop :=
  (∀ (k0_h2 : k0_cond2 i = 1#1), 8 ∣ (k0_mult105 v862).toNat) ∧
  (∀ (k0_h2 : k0_cond2 i = 1#1), ∀ a, (k0_off221 v862) a + S8x128.size a ≤ S131072x128.size a)
theorem k0_mult105_dvd : ∀ (i : grid0.Coords) (v862 : BitVec 32) (k0_hw53 : k0_chk53 i v862), ∀ (k0_h2 : k0_cond2 i = 1#1), 8 ∣ (k0_mult105 v862).toNat := fun i v862 k0_hw53 k0_h2 => k0_hw53.1 k0_h2
theorem k0_off221_inb : ∀ (i : grid0.Coords) (v862 : BitVec 32) (k0_hw53 : k0_chk53 i v862), ∀ (k0_h2 : k0_cond2 i = 1#1), ∀ a, (k0_off221 v862) a + S8x128.size a ≤ S131072x128.size a := fun i v862 k0_hw53 k0_h2 => k0_hw53.2 k0_h2

def k0_off222 (i : grid0.Coords) : Fin 3 → Nat :=
  let c0_519 : Index := 0#32
  let c0_520 : Index := 0#32
  let arg1 : BitVec 32 := BitVec.ofNat 32 (i 1).val
  let c2_i32_515 : BitVec 32 := 2#32
  let v871 : BitVec 32 := Scalar.muli arg1 c2_i32_515
  let c0_i32_516 : BitVec 32 := 0#32
  let v872 : BitVec 32 := Scalar.addi v871 c0_i32_516
  let c256_i32_517 : BitVec 32 := 256#32
  let v873 : BitVec 32 := Scalar.muli v872 c256_i32_517
  let c52_i32 : BitVec 32 := 52#32
  let v874 : BitVec 32 := Scalar.addi v873 c52_i32
  let v876 : Index := Scalar.indexCast v874
  ![0, 0, v876.toNat]
def k0_mult107 (v877 : BitVec 32) : BitVec 32 :=
  v877

def k0_mult108 (i : grid0.Coords) : BitVec 32 :=
  let arg1 : BitVec 32 := BitVec.ofNat 32 (i 1).val
  let c2_i32_515 : BitVec 32 := 2#32
  let v871 : BitVec 32 := Scalar.muli arg1 c2_i32_515
  let c0_i32_516 : BitVec 32 := 0#32
  let v872 : BitVec 32 := Scalar.addi v871 c0_i32_516
  let c256_i32_517 : BitVec 32 := 256#32
  let v873 : BitVec 32 := Scalar.muli v872 c256_i32_517
  let c52_i32 : BitVec 32 := 52#32
  let v874 : BitVec 32 := Scalar.addi v873 c52_i32
  let c8_i32_521 : BitVec 32 := 8#32
  let v879 : BitVec 32 := Scalar.muli v874 c8_i32_521
  v879
def k0_off223 (i : grid0.Coords) : Fin 1 → Nat :=
  let c1_i32_518 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v875 : BitVec 32 := Scalar.subi c1_i32_518 v9
  ![v875.toNat]
def k0_off224 (i : grid0.Coords) : Fin 3 → Nat :=
  let c1_i32_518 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v875 : BitVec 32 := Scalar.subi c1_i32_518 v9
  let arg1 : BitVec 32 := BitVec.ofNat 32 (i 1).val
  let c2_i32_515 : BitVec 32 := 2#32
  let v871 : BitVec 32 := Scalar.muli arg1 c2_i32_515
  let c0_i32_516 : BitVec 32 := 0#32
  let v872 : BitVec 32 := Scalar.addi v871 c0_i32_516
  let c256_i32_517 : BitVec 32 := 256#32
  let v873 : BitVec 32 := Scalar.muli v872 c256_i32_517
  let c52_i32 : BitVec 32 := 52#32
  let v874 : BitVec 32 := Scalar.addi v873 c52_i32
  let c8_i32_521 : BitVec 32 := 8#32
  let v879 : BitVec 32 := Scalar.muli v874 c8_i32_521
  let v880 : BitVec 32 := v879
  let c0_i32_522 : BitVec 32 := 0#32
  ![v875.toNat, v880.toNat, 0]
def k0_off225 (v877 : BitVec 32) : Fin 2 → Nat :=
  let v878 : BitVec 32 := v877
  let c0_i32_523 : BitVec 32 := 0#32
  ![v878.toNat, 0]

def k0_chk54 (i : grid0.Coords) (v877 : BitVec 32) : Prop :=
  (∀ (k0_h2 : k0_cond2 i = 1#1), 8 ∣ (k0_mult107 v877).toNat) ∧
  (∀ (k0_h2 : k0_cond2 i = 1#1), ∀ a, (k0_off225 v877) a + S8x128.size a ≤ S131072x128.size a)
theorem k0_mult107_dvd : ∀ (i : grid0.Coords) (v877 : BitVec 32) (k0_hw54 : k0_chk54 i v877), ∀ (k0_h2 : k0_cond2 i = 1#1), 8 ∣ (k0_mult107 v877).toNat := fun i v877 k0_hw54 k0_h2 => k0_hw54.1 k0_h2
theorem k0_off225_inb : ∀ (i : grid0.Coords) (v877 : BitVec 32) (k0_hw54 : k0_chk54 i v877), ∀ (k0_h2 : k0_cond2 i = 1#1), ∀ a, (k0_off225 v877) a + S8x128.size a ≤ S131072x128.size a := fun i v877 k0_hw54 k0_h2 => k0_hw54.2 k0_h2

def k0_off226 (i : grid0.Coords) : Fin 3 → Nat :=
  let c0_528 : Index := 0#32
  let c0_529 : Index := 0#32
  let arg1 : BitVec 32 := BitVec.ofNat 32 (i 1).val
  let c2_i32_524 : BitVec 32 := 2#32
  let v886 : BitVec 32 := Scalar.muli arg1 c2_i32_524
  let c0_i32_525 : BitVec 32 := 0#32
  let v887 : BitVec 32 := Scalar.addi v886 c0_i32_525
  let c256_i32_526 : BitVec 32 := 256#32
  let v888 : BitVec 32 := Scalar.muli v887 c256_i32_526
  let c53_i32 : BitVec 32 := 53#32
  let v889 : BitVec 32 := Scalar.addi v888 c53_i32
  let v891 : Index := Scalar.indexCast v889
  ![0, 0, v891.toNat]
def k0_mult109 (v892 : BitVec 32) : BitVec 32 :=
  v892

def k0_mult110 (i : grid0.Coords) : BitVec 32 :=
  let arg1 : BitVec 32 := BitVec.ofNat 32 (i 1).val
  let c2_i32_524 : BitVec 32 := 2#32
  let v886 : BitVec 32 := Scalar.muli arg1 c2_i32_524
  let c0_i32_525 : BitVec 32 := 0#32
  let v887 : BitVec 32 := Scalar.addi v886 c0_i32_525
  let c256_i32_526 : BitVec 32 := 256#32
  let v888 : BitVec 32 := Scalar.muli v887 c256_i32_526
  let c53_i32 : BitVec 32 := 53#32
  let v889 : BitVec 32 := Scalar.addi v888 c53_i32
  let c8_i32_530 : BitVec 32 := 8#32
  let v894 : BitVec 32 := Scalar.muli v889 c8_i32_530
  v894
def k0_off227 (i : grid0.Coords) : Fin 1 → Nat :=
  let c1_i32_527 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v890 : BitVec 32 := Scalar.subi c1_i32_527 v9
  ![v890.toNat]
def k0_off228 (i : grid0.Coords) : Fin 3 → Nat :=
  let c1_i32_527 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v890 : BitVec 32 := Scalar.subi c1_i32_527 v9
  let arg1 : BitVec 32 := BitVec.ofNat 32 (i 1).val
  let c2_i32_524 : BitVec 32 := 2#32
  let v886 : BitVec 32 := Scalar.muli arg1 c2_i32_524
  let c0_i32_525 : BitVec 32 := 0#32
  let v887 : BitVec 32 := Scalar.addi v886 c0_i32_525
  let c256_i32_526 : BitVec 32 := 256#32
  let v888 : BitVec 32 := Scalar.muli v887 c256_i32_526
  let c53_i32 : BitVec 32 := 53#32
  let v889 : BitVec 32 := Scalar.addi v888 c53_i32
  let c8_i32_530 : BitVec 32 := 8#32
  let v894 : BitVec 32 := Scalar.muli v889 c8_i32_530
  let v895 : BitVec 32 := v894
  let c0_i32_531 : BitVec 32 := 0#32
  ![v890.toNat, v895.toNat, 0]
def k0_off229 (v892 : BitVec 32) : Fin 2 → Nat :=
  let v893 : BitVec 32 := v892
  let c0_i32_532 : BitVec 32 := 0#32
  ![v893.toNat, 0]

def k0_chk55 (i : grid0.Coords) (v892 : BitVec 32) : Prop :=
  (∀ (k0_h2 : k0_cond2 i = 1#1), 8 ∣ (k0_mult109 v892).toNat) ∧
  (∀ (k0_h2 : k0_cond2 i = 1#1), ∀ a, (k0_off229 v892) a + S8x128.size a ≤ S131072x128.size a)
theorem k0_mult109_dvd : ∀ (i : grid0.Coords) (v892 : BitVec 32) (k0_hw55 : k0_chk55 i v892), ∀ (k0_h2 : k0_cond2 i = 1#1), 8 ∣ (k0_mult109 v892).toNat := fun i v892 k0_hw55 k0_h2 => k0_hw55.1 k0_h2
theorem k0_off229_inb : ∀ (i : grid0.Coords) (v892 : BitVec 32) (k0_hw55 : k0_chk55 i v892), ∀ (k0_h2 : k0_cond2 i = 1#1), ∀ a, (k0_off229 v892) a + S8x128.size a ≤ S131072x128.size a := fun i v892 k0_hw55 k0_h2 => k0_hw55.2 k0_h2

def k0_off230 (i : grid0.Coords) : Fin 3 → Nat :=
  let c0_537 : Index := 0#32
  let c0_538 : Index := 0#32
  let arg1 : BitVec 32 := BitVec.ofNat 32 (i 1).val
  let c2_i32_533 : BitVec 32 := 2#32
  let v901 : BitVec 32 := Scalar.muli arg1 c2_i32_533
  let c0_i32_534 : BitVec 32 := 0#32
  let v902 : BitVec 32 := Scalar.addi v901 c0_i32_534
  let c256_i32_535 : BitVec 32 := 256#32
  let v903 : BitVec 32 := Scalar.muli v902 c256_i32_535
  let c54_i32 : BitVec 32 := 54#32
  let v904 : BitVec 32 := Scalar.addi v903 c54_i32
  let v906 : Index := Scalar.indexCast v904
  ![0, 0, v906.toNat]
def k0_mult111 (v907 : BitVec 32) : BitVec 32 :=
  v907

def k0_mult112 (i : grid0.Coords) : BitVec 32 :=
  let arg1 : BitVec 32 := BitVec.ofNat 32 (i 1).val
  let c2_i32_533 : BitVec 32 := 2#32
  let v901 : BitVec 32 := Scalar.muli arg1 c2_i32_533
  let c0_i32_534 : BitVec 32 := 0#32
  let v902 : BitVec 32 := Scalar.addi v901 c0_i32_534
  let c256_i32_535 : BitVec 32 := 256#32
  let v903 : BitVec 32 := Scalar.muli v902 c256_i32_535
  let c54_i32 : BitVec 32 := 54#32
  let v904 : BitVec 32 := Scalar.addi v903 c54_i32
  let c8_i32_539 : BitVec 32 := 8#32
  let v909 : BitVec 32 := Scalar.muli v904 c8_i32_539
  v909
def k0_off231 (i : grid0.Coords) : Fin 1 → Nat :=
  let c1_i32_536 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v905 : BitVec 32 := Scalar.subi c1_i32_536 v9
  ![v905.toNat]
def k0_off232 (i : grid0.Coords) : Fin 3 → Nat :=
  let c1_i32_536 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v905 : BitVec 32 := Scalar.subi c1_i32_536 v9
  let arg1 : BitVec 32 := BitVec.ofNat 32 (i 1).val
  let c2_i32_533 : BitVec 32 := 2#32
  let v901 : BitVec 32 := Scalar.muli arg1 c2_i32_533
  let c0_i32_534 : BitVec 32 := 0#32
  let v902 : BitVec 32 := Scalar.addi v901 c0_i32_534
  let c256_i32_535 : BitVec 32 := 256#32
  let v903 : BitVec 32 := Scalar.muli v902 c256_i32_535
  let c54_i32 : BitVec 32 := 54#32
  let v904 : BitVec 32 := Scalar.addi v903 c54_i32
  let c8_i32_539 : BitVec 32 := 8#32
  let v909 : BitVec 32 := Scalar.muli v904 c8_i32_539
  let v910 : BitVec 32 := v909
  let c0_i32_540 : BitVec 32 := 0#32
  ![v905.toNat, v910.toNat, 0]
def k0_off233 (v907 : BitVec 32) : Fin 2 → Nat :=
  let v908 : BitVec 32 := v907
  let c0_i32_541 : BitVec 32 := 0#32
  ![v908.toNat, 0]

def k0_chk56 (i : grid0.Coords) (v907 : BitVec 32) : Prop :=
  (∀ (k0_h2 : k0_cond2 i = 1#1), 8 ∣ (k0_mult111 v907).toNat) ∧
  (∀ (k0_h2 : k0_cond2 i = 1#1), ∀ a, (k0_off233 v907) a + S8x128.size a ≤ S131072x128.size a)
theorem k0_mult111_dvd : ∀ (i : grid0.Coords) (v907 : BitVec 32) (k0_hw56 : k0_chk56 i v907), ∀ (k0_h2 : k0_cond2 i = 1#1), 8 ∣ (k0_mult111 v907).toNat := fun i v907 k0_hw56 k0_h2 => k0_hw56.1 k0_h2
theorem k0_off233_inb : ∀ (i : grid0.Coords) (v907 : BitVec 32) (k0_hw56 : k0_chk56 i v907), ∀ (k0_h2 : k0_cond2 i = 1#1), ∀ a, (k0_off233 v907) a + S8x128.size a ≤ S131072x128.size a := fun i v907 k0_hw56 k0_h2 => k0_hw56.2 k0_h2

def k0_off234 (i : grid0.Coords) : Fin 3 → Nat :=
  let c0_546 : Index := 0#32
  let c0_547 : Index := 0#32
  let arg1 : BitVec 32 := BitVec.ofNat 32 (i 1).val
  let c2_i32_542 : BitVec 32 := 2#32
  let v916 : BitVec 32 := Scalar.muli arg1 c2_i32_542
  let c0_i32_543 : BitVec 32 := 0#32
  let v917 : BitVec 32 := Scalar.addi v916 c0_i32_543
  let c256_i32_544 : BitVec 32 := 256#32
  let v918 : BitVec 32 := Scalar.muli v917 c256_i32_544
  let c55_i32 : BitVec 32 := 55#32
  let v919 : BitVec 32 := Scalar.addi v918 c55_i32
  let v921 : Index := Scalar.indexCast v919
  ![0, 0, v921.toNat]
def k0_mult113 (v922 : BitVec 32) : BitVec 32 :=
  v922

def k0_mult114 (i : grid0.Coords) : BitVec 32 :=
  let arg1 : BitVec 32 := BitVec.ofNat 32 (i 1).val
  let c2_i32_542 : BitVec 32 := 2#32
  let v916 : BitVec 32 := Scalar.muli arg1 c2_i32_542
  let c0_i32_543 : BitVec 32 := 0#32
  let v917 : BitVec 32 := Scalar.addi v916 c0_i32_543
  let c256_i32_544 : BitVec 32 := 256#32
  let v918 : BitVec 32 := Scalar.muli v917 c256_i32_544
  let c55_i32 : BitVec 32 := 55#32
  let v919 : BitVec 32 := Scalar.addi v918 c55_i32
  let c8_i32_548 : BitVec 32 := 8#32
  let v924 : BitVec 32 := Scalar.muli v919 c8_i32_548
  v924
def k0_off235 (i : grid0.Coords) : Fin 1 → Nat :=
  let c1_i32_545 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v920 : BitVec 32 := Scalar.subi c1_i32_545 v9
  ![v920.toNat]
def k0_off236 (i : grid0.Coords) : Fin 3 → Nat :=
  let c1_i32_545 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v920 : BitVec 32 := Scalar.subi c1_i32_545 v9
  let arg1 : BitVec 32 := BitVec.ofNat 32 (i 1).val
  let c2_i32_542 : BitVec 32 := 2#32
  let v916 : BitVec 32 := Scalar.muli arg1 c2_i32_542
  let c0_i32_543 : BitVec 32 := 0#32
  let v917 : BitVec 32 := Scalar.addi v916 c0_i32_543
  let c256_i32_544 : BitVec 32 := 256#32
  let v918 : BitVec 32 := Scalar.muli v917 c256_i32_544
  let c55_i32 : BitVec 32 := 55#32
  let v919 : BitVec 32 := Scalar.addi v918 c55_i32
  let c8_i32_548 : BitVec 32 := 8#32
  let v924 : BitVec 32 := Scalar.muli v919 c8_i32_548
  let v925 : BitVec 32 := v924
  let c0_i32_549 : BitVec 32 := 0#32
  ![v920.toNat, v925.toNat, 0]
def k0_off237 (v922 : BitVec 32) : Fin 2 → Nat :=
  let v923 : BitVec 32 := v922
  let c0_i32_550 : BitVec 32 := 0#32
  ![v923.toNat, 0]

def k0_chk57 (i : grid0.Coords) (v922 : BitVec 32) : Prop :=
  (∀ (k0_h2 : k0_cond2 i = 1#1), 8 ∣ (k0_mult113 v922).toNat) ∧
  (∀ (k0_h2 : k0_cond2 i = 1#1), ∀ a, (k0_off237 v922) a + S8x128.size a ≤ S131072x128.size a)
theorem k0_mult113_dvd : ∀ (i : grid0.Coords) (v922 : BitVec 32) (k0_hw57 : k0_chk57 i v922), ∀ (k0_h2 : k0_cond2 i = 1#1), 8 ∣ (k0_mult113 v922).toNat := fun i v922 k0_hw57 k0_h2 => k0_hw57.1 k0_h2
theorem k0_off237_inb : ∀ (i : grid0.Coords) (v922 : BitVec 32) (k0_hw57 : k0_chk57 i v922), ∀ (k0_h2 : k0_cond2 i = 1#1), ∀ a, (k0_off237 v922) a + S8x128.size a ≤ S131072x128.size a := fun i v922 k0_hw57 k0_h2 => k0_hw57.2 k0_h2

def k0_off238 (i : grid0.Coords) : Fin 3 → Nat :=
  let c0_555 : Index := 0#32
  let c0_556 : Index := 0#32
  let arg1 : BitVec 32 := BitVec.ofNat 32 (i 1).val
  let c2_i32_551 : BitVec 32 := 2#32
  let v931 : BitVec 32 := Scalar.muli arg1 c2_i32_551
  let c0_i32_552 : BitVec 32 := 0#32
  let v932 : BitVec 32 := Scalar.addi v931 c0_i32_552
  let c256_i32_553 : BitVec 32 := 256#32
  let v933 : BitVec 32 := Scalar.muli v932 c256_i32_553
  let c56_i32 : BitVec 32 := 56#32
  let v934 : BitVec 32 := Scalar.addi v933 c56_i32
  let v936 : Index := Scalar.indexCast v934
  ![0, 0, v936.toNat]
def k0_mult115 (v937 : BitVec 32) : BitVec 32 :=
  v937

def k0_mult116 (i : grid0.Coords) : BitVec 32 :=
  let arg1 : BitVec 32 := BitVec.ofNat 32 (i 1).val
  let c2_i32_551 : BitVec 32 := 2#32
  let v931 : BitVec 32 := Scalar.muli arg1 c2_i32_551
  let c0_i32_552 : BitVec 32 := 0#32
  let v932 : BitVec 32 := Scalar.addi v931 c0_i32_552
  let c256_i32_553 : BitVec 32 := 256#32
  let v933 : BitVec 32 := Scalar.muli v932 c256_i32_553
  let c56_i32 : BitVec 32 := 56#32
  let v934 : BitVec 32 := Scalar.addi v933 c56_i32
  let c8_i32_557 : BitVec 32 := 8#32
  let v939 : BitVec 32 := Scalar.muli v934 c8_i32_557
  v939
def k0_off239 (i : grid0.Coords) : Fin 1 → Nat :=
  let c1_i32_554 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v935 : BitVec 32 := Scalar.subi c1_i32_554 v9
  ![v935.toNat]
def k0_off240 (i : grid0.Coords) : Fin 3 → Nat :=
  let c1_i32_554 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v935 : BitVec 32 := Scalar.subi c1_i32_554 v9
  let arg1 : BitVec 32 := BitVec.ofNat 32 (i 1).val
  let c2_i32_551 : BitVec 32 := 2#32
  let v931 : BitVec 32 := Scalar.muli arg1 c2_i32_551
  let c0_i32_552 : BitVec 32 := 0#32
  let v932 : BitVec 32 := Scalar.addi v931 c0_i32_552
  let c256_i32_553 : BitVec 32 := 256#32
  let v933 : BitVec 32 := Scalar.muli v932 c256_i32_553
  let c56_i32 : BitVec 32 := 56#32
  let v934 : BitVec 32 := Scalar.addi v933 c56_i32
  let c8_i32_557 : BitVec 32 := 8#32
  let v939 : BitVec 32 := Scalar.muli v934 c8_i32_557
  let v940 : BitVec 32 := v939
  let c0_i32_558 : BitVec 32 := 0#32
  ![v935.toNat, v940.toNat, 0]
def k0_off241 (v937 : BitVec 32) : Fin 2 → Nat :=
  let v938 : BitVec 32 := v937
  let c0_i32_559 : BitVec 32 := 0#32
  ![v938.toNat, 0]

def k0_chk58 (i : grid0.Coords) (v937 : BitVec 32) : Prop :=
  (∀ (k0_h2 : k0_cond2 i = 1#1), 8 ∣ (k0_mult115 v937).toNat) ∧
  (∀ (k0_h2 : k0_cond2 i = 1#1), ∀ a, (k0_off241 v937) a + S8x128.size a ≤ S131072x128.size a)
theorem k0_mult115_dvd : ∀ (i : grid0.Coords) (v937 : BitVec 32) (k0_hw58 : k0_chk58 i v937), ∀ (k0_h2 : k0_cond2 i = 1#1), 8 ∣ (k0_mult115 v937).toNat := fun i v937 k0_hw58 k0_h2 => k0_hw58.1 k0_h2
theorem k0_off241_inb : ∀ (i : grid0.Coords) (v937 : BitVec 32) (k0_hw58 : k0_chk58 i v937), ∀ (k0_h2 : k0_cond2 i = 1#1), ∀ a, (k0_off241 v937) a + S8x128.size a ≤ S131072x128.size a := fun i v937 k0_hw58 k0_h2 => k0_hw58.2 k0_h2

def k0_off242 (i : grid0.Coords) : Fin 3 → Nat :=
  let c0_564 : Index := 0#32
  let c0_565 : Index := 0#32
  let arg1 : BitVec 32 := BitVec.ofNat 32 (i 1).val
  let c2_i32_560 : BitVec 32 := 2#32
  let v946 : BitVec 32 := Scalar.muli arg1 c2_i32_560
  let c0_i32_561 : BitVec 32 := 0#32
  let v947 : BitVec 32 := Scalar.addi v946 c0_i32_561
  let c256_i32_562 : BitVec 32 := 256#32
  let v948 : BitVec 32 := Scalar.muli v947 c256_i32_562
  let c57_i32 : BitVec 32 := 57#32
  let v949 : BitVec 32 := Scalar.addi v948 c57_i32
  let v951 : Index := Scalar.indexCast v949
  ![0, 0, v951.toNat]
def k0_mult117 (v952 : BitVec 32) : BitVec 32 :=
  v952

def k0_mult118 (i : grid0.Coords) : BitVec 32 :=
  let arg1 : BitVec 32 := BitVec.ofNat 32 (i 1).val
  let c2_i32_560 : BitVec 32 := 2#32
  let v946 : BitVec 32 := Scalar.muli arg1 c2_i32_560
  let c0_i32_561 : BitVec 32 := 0#32
  let v947 : BitVec 32 := Scalar.addi v946 c0_i32_561
  let c256_i32_562 : BitVec 32 := 256#32
  let v948 : BitVec 32 := Scalar.muli v947 c256_i32_562
  let c57_i32 : BitVec 32 := 57#32
  let v949 : BitVec 32 := Scalar.addi v948 c57_i32
  let c8_i32_566 : BitVec 32 := 8#32
  let v954 : BitVec 32 := Scalar.muli v949 c8_i32_566
  v954
def k0_off243 (i : grid0.Coords) : Fin 1 → Nat :=
  let c1_i32_563 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v950 : BitVec 32 := Scalar.subi c1_i32_563 v9
  ![v950.toNat]
def k0_off244 (i : grid0.Coords) : Fin 3 → Nat :=
  let c1_i32_563 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v950 : BitVec 32 := Scalar.subi c1_i32_563 v9
  let arg1 : BitVec 32 := BitVec.ofNat 32 (i 1).val
  let c2_i32_560 : BitVec 32 := 2#32
  let v946 : BitVec 32 := Scalar.muli arg1 c2_i32_560
  let c0_i32_561 : BitVec 32 := 0#32
  let v947 : BitVec 32 := Scalar.addi v946 c0_i32_561
  let c256_i32_562 : BitVec 32 := 256#32
  let v948 : BitVec 32 := Scalar.muli v947 c256_i32_562
  let c57_i32 : BitVec 32 := 57#32
  let v949 : BitVec 32 := Scalar.addi v948 c57_i32
  let c8_i32_566 : BitVec 32 := 8#32
  let v954 : BitVec 32 := Scalar.muli v949 c8_i32_566
  let v955 : BitVec 32 := v954
  let c0_i32_567 : BitVec 32 := 0#32
  ![v950.toNat, v955.toNat, 0]
def k0_off245 (v952 : BitVec 32) : Fin 2 → Nat :=
  let v953 : BitVec 32 := v952
  let c0_i32_568 : BitVec 32 := 0#32
  ![v953.toNat, 0]

def k0_chk59 (i : grid0.Coords) (v952 : BitVec 32) : Prop :=
  (∀ (k0_h2 : k0_cond2 i = 1#1), 8 ∣ (k0_mult117 v952).toNat) ∧
  (∀ (k0_h2 : k0_cond2 i = 1#1), ∀ a, (k0_off245 v952) a + S8x128.size a ≤ S131072x128.size a)
theorem k0_mult117_dvd : ∀ (i : grid0.Coords) (v952 : BitVec 32) (k0_hw59 : k0_chk59 i v952), ∀ (k0_h2 : k0_cond2 i = 1#1), 8 ∣ (k0_mult117 v952).toNat := fun i v952 k0_hw59 k0_h2 => k0_hw59.1 k0_h2
theorem k0_off245_inb : ∀ (i : grid0.Coords) (v952 : BitVec 32) (k0_hw59 : k0_chk59 i v952), ∀ (k0_h2 : k0_cond2 i = 1#1), ∀ a, (k0_off245 v952) a + S8x128.size a ≤ S131072x128.size a := fun i v952 k0_hw59 k0_h2 => k0_hw59.2 k0_h2

def k0_off246 (i : grid0.Coords) : Fin 3 → Nat :=
  let c0_573 : Index := 0#32
  let c0_574 : Index := 0#32
  let arg1 : BitVec 32 := BitVec.ofNat 32 (i 1).val
  let c2_i32_569 : BitVec 32 := 2#32
  let v961 : BitVec 32 := Scalar.muli arg1 c2_i32_569
  let c0_i32_570 : BitVec 32 := 0#32
  let v962 : BitVec 32 := Scalar.addi v961 c0_i32_570
  let c256_i32_571 : BitVec 32 := 256#32
  let v963 : BitVec 32 := Scalar.muli v962 c256_i32_571
  let c58_i32 : BitVec 32 := 58#32
  let v964 : BitVec 32 := Scalar.addi v963 c58_i32
  let v966 : Index := Scalar.indexCast v964
  ![0, 0, v966.toNat]
def k0_mult119 (v967 : BitVec 32) : BitVec 32 :=
  v967

def k0_mult120 (i : grid0.Coords) : BitVec 32 :=
  let arg1 : BitVec 32 := BitVec.ofNat 32 (i 1).val
  let c2_i32_569 : BitVec 32 := 2#32
  let v961 : BitVec 32 := Scalar.muli arg1 c2_i32_569
  let c0_i32_570 : BitVec 32 := 0#32
  let v962 : BitVec 32 := Scalar.addi v961 c0_i32_570
  let c256_i32_571 : BitVec 32 := 256#32
  let v963 : BitVec 32 := Scalar.muli v962 c256_i32_571
  let c58_i32 : BitVec 32 := 58#32
  let v964 : BitVec 32 := Scalar.addi v963 c58_i32
  let c8_i32_575 : BitVec 32 := 8#32
  let v969 : BitVec 32 := Scalar.muli v964 c8_i32_575
  v969
def k0_off247 (i : grid0.Coords) : Fin 1 → Nat :=
  let c1_i32_572 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v965 : BitVec 32 := Scalar.subi c1_i32_572 v9
  ![v965.toNat]
def k0_off248 (i : grid0.Coords) : Fin 3 → Nat :=
  let c1_i32_572 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v965 : BitVec 32 := Scalar.subi c1_i32_572 v9
  let arg1 : BitVec 32 := BitVec.ofNat 32 (i 1).val
  let c2_i32_569 : BitVec 32 := 2#32
  let v961 : BitVec 32 := Scalar.muli arg1 c2_i32_569
  let c0_i32_570 : BitVec 32 := 0#32
  let v962 : BitVec 32 := Scalar.addi v961 c0_i32_570
  let c256_i32_571 : BitVec 32 := 256#32
  let v963 : BitVec 32 := Scalar.muli v962 c256_i32_571
  let c58_i32 : BitVec 32 := 58#32
  let v964 : BitVec 32 := Scalar.addi v963 c58_i32
  let c8_i32_575 : BitVec 32 := 8#32
  let v969 : BitVec 32 := Scalar.muli v964 c8_i32_575
  let v970 : BitVec 32 := v969
  let c0_i32_576 : BitVec 32 := 0#32
  ![v965.toNat, v970.toNat, 0]
def k0_off249 (v967 : BitVec 32) : Fin 2 → Nat :=
  let v968 : BitVec 32 := v967
  let c0_i32_577 : BitVec 32 := 0#32
  ![v968.toNat, 0]

def k0_chk60 (i : grid0.Coords) (v967 : BitVec 32) : Prop :=
  (∀ (k0_h2 : k0_cond2 i = 1#1), 8 ∣ (k0_mult119 v967).toNat) ∧
  (∀ (k0_h2 : k0_cond2 i = 1#1), ∀ a, (k0_off249 v967) a + S8x128.size a ≤ S131072x128.size a)
theorem k0_mult119_dvd : ∀ (i : grid0.Coords) (v967 : BitVec 32) (k0_hw60 : k0_chk60 i v967), ∀ (k0_h2 : k0_cond2 i = 1#1), 8 ∣ (k0_mult119 v967).toNat := fun i v967 k0_hw60 k0_h2 => k0_hw60.1 k0_h2
theorem k0_off249_inb : ∀ (i : grid0.Coords) (v967 : BitVec 32) (k0_hw60 : k0_chk60 i v967), ∀ (k0_h2 : k0_cond2 i = 1#1), ∀ a, (k0_off249 v967) a + S8x128.size a ≤ S131072x128.size a := fun i v967 k0_hw60 k0_h2 => k0_hw60.2 k0_h2

def k0_off250 (i : grid0.Coords) : Fin 3 → Nat :=
  let c0_582 : Index := 0#32
  let c0_583 : Index := 0#32
  let arg1 : BitVec 32 := BitVec.ofNat 32 (i 1).val
  let c2_i32_578 : BitVec 32 := 2#32
  let v976 : BitVec 32 := Scalar.muli arg1 c2_i32_578
  let c0_i32_579 : BitVec 32 := 0#32
  let v977 : BitVec 32 := Scalar.addi v976 c0_i32_579
  let c256_i32_580 : BitVec 32 := 256#32
  let v978 : BitVec 32 := Scalar.muli v977 c256_i32_580
  let c59_i32 : BitVec 32 := 59#32
  let v979 : BitVec 32 := Scalar.addi v978 c59_i32
  let v981 : Index := Scalar.indexCast v979
  ![0, 0, v981.toNat]
def k0_mult121 (v982 : BitVec 32) : BitVec 32 :=
  v982

def k0_mult122 (i : grid0.Coords) : BitVec 32 :=
  let arg1 : BitVec 32 := BitVec.ofNat 32 (i 1).val
  let c2_i32_578 : BitVec 32 := 2#32
  let v976 : BitVec 32 := Scalar.muli arg1 c2_i32_578
  let c0_i32_579 : BitVec 32 := 0#32
  let v977 : BitVec 32 := Scalar.addi v976 c0_i32_579
  let c256_i32_580 : BitVec 32 := 256#32
  let v978 : BitVec 32 := Scalar.muli v977 c256_i32_580
  let c59_i32 : BitVec 32 := 59#32
  let v979 : BitVec 32 := Scalar.addi v978 c59_i32
  let c8_i32_584 : BitVec 32 := 8#32
  let v984 : BitVec 32 := Scalar.muli v979 c8_i32_584
  v984
def k0_off251 (i : grid0.Coords) : Fin 1 → Nat :=
  let c1_i32_581 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v980 : BitVec 32 := Scalar.subi c1_i32_581 v9
  ![v980.toNat]
def k0_off252 (i : grid0.Coords) : Fin 3 → Nat :=
  let c1_i32_581 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v980 : BitVec 32 := Scalar.subi c1_i32_581 v9
  let arg1 : BitVec 32 := BitVec.ofNat 32 (i 1).val
  let c2_i32_578 : BitVec 32 := 2#32
  let v976 : BitVec 32 := Scalar.muli arg1 c2_i32_578
  let c0_i32_579 : BitVec 32 := 0#32
  let v977 : BitVec 32 := Scalar.addi v976 c0_i32_579
  let c256_i32_580 : BitVec 32 := 256#32
  let v978 : BitVec 32 := Scalar.muli v977 c256_i32_580
  let c59_i32 : BitVec 32 := 59#32
  let v979 : BitVec 32 := Scalar.addi v978 c59_i32
  let c8_i32_584 : BitVec 32 := 8#32
  let v984 : BitVec 32 := Scalar.muli v979 c8_i32_584
  let v985 : BitVec 32 := v984
  let c0_i32_585 : BitVec 32 := 0#32
  ![v980.toNat, v985.toNat, 0]
def k0_off253 (v982 : BitVec 32) : Fin 2 → Nat :=
  let v983 : BitVec 32 := v982
  let c0_i32_586 : BitVec 32 := 0#32
  ![v983.toNat, 0]

def k0_chk61 (i : grid0.Coords) (v982 : BitVec 32) : Prop :=
  (∀ (k0_h2 : k0_cond2 i = 1#1), 8 ∣ (k0_mult121 v982).toNat) ∧
  (∀ (k0_h2 : k0_cond2 i = 1#1), ∀ a, (k0_off253 v982) a + S8x128.size a ≤ S131072x128.size a)
theorem k0_mult121_dvd : ∀ (i : grid0.Coords) (v982 : BitVec 32) (k0_hw61 : k0_chk61 i v982), ∀ (k0_h2 : k0_cond2 i = 1#1), 8 ∣ (k0_mult121 v982).toNat := fun i v982 k0_hw61 k0_h2 => k0_hw61.1 k0_h2
theorem k0_off253_inb : ∀ (i : grid0.Coords) (v982 : BitVec 32) (k0_hw61 : k0_chk61 i v982), ∀ (k0_h2 : k0_cond2 i = 1#1), ∀ a, (k0_off253 v982) a + S8x128.size a ≤ S131072x128.size a := fun i v982 k0_hw61 k0_h2 => k0_hw61.2 k0_h2

def k0_off254 (i : grid0.Coords) : Fin 3 → Nat :=
  let c0_591 : Index := 0#32
  let c0_592 : Index := 0#32
  let arg1 : BitVec 32 := BitVec.ofNat 32 (i 1).val
  let c2_i32_587 : BitVec 32 := 2#32
  let v991 : BitVec 32 := Scalar.muli arg1 c2_i32_587
  let c0_i32_588 : BitVec 32 := 0#32
  let v992 : BitVec 32 := Scalar.addi v991 c0_i32_588
  let c256_i32_589 : BitVec 32 := 256#32
  let v993 : BitVec 32 := Scalar.muli v992 c256_i32_589
  let c60_i32 : BitVec 32 := 60#32
  let v994 : BitVec 32 := Scalar.addi v993 c60_i32
  let v996 : Index := Scalar.indexCast v994
  ![0, 0, v996.toNat]
def k0_mult123 (v997 : BitVec 32) : BitVec 32 :=
  v997

def k0_mult124 (i : grid0.Coords) : BitVec 32 :=
  let arg1 : BitVec 32 := BitVec.ofNat 32 (i 1).val
  let c2_i32_587 : BitVec 32 := 2#32
  let v991 : BitVec 32 := Scalar.muli arg1 c2_i32_587
  let c0_i32_588 : BitVec 32 := 0#32
  let v992 : BitVec 32 := Scalar.addi v991 c0_i32_588
  let c256_i32_589 : BitVec 32 := 256#32
  let v993 : BitVec 32 := Scalar.muli v992 c256_i32_589
  let c60_i32 : BitVec 32 := 60#32
  let v994 : BitVec 32 := Scalar.addi v993 c60_i32
  let c8_i32_593 : BitVec 32 := 8#32
  let v999 : BitVec 32 := Scalar.muli v994 c8_i32_593
  v999
def k0_off255 (i : grid0.Coords) : Fin 1 → Nat :=
  let c1_i32_590 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v995 : BitVec 32 := Scalar.subi c1_i32_590 v9
  ![v995.toNat]
def k0_off256 (i : grid0.Coords) : Fin 3 → Nat :=
  let c1_i32_590 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v995 : BitVec 32 := Scalar.subi c1_i32_590 v9
  let arg1 : BitVec 32 := BitVec.ofNat 32 (i 1).val
  let c2_i32_587 : BitVec 32 := 2#32
  let v991 : BitVec 32 := Scalar.muli arg1 c2_i32_587
  let c0_i32_588 : BitVec 32 := 0#32
  let v992 : BitVec 32 := Scalar.addi v991 c0_i32_588
  let c256_i32_589 : BitVec 32 := 256#32
  let v993 : BitVec 32 := Scalar.muli v992 c256_i32_589
  let c60_i32 : BitVec 32 := 60#32
  let v994 : BitVec 32 := Scalar.addi v993 c60_i32
  let c8_i32_593 : BitVec 32 := 8#32
  let v999 : BitVec 32 := Scalar.muli v994 c8_i32_593
  let v1000 : BitVec 32 := v999
  let c0_i32_594 : BitVec 32 := 0#32
  ![v995.toNat, v1000.toNat, 0]
def k0_off257 (v997 : BitVec 32) : Fin 2 → Nat :=
  let v998 : BitVec 32 := v997
  let c0_i32_595 : BitVec 32 := 0#32
  ![v998.toNat, 0]

def k0_chk62 (i : grid0.Coords) (v997 : BitVec 32) : Prop :=
  (∀ (k0_h2 : k0_cond2 i = 1#1), 8 ∣ (k0_mult123 v997).toNat) ∧
  (∀ (k0_h2 : k0_cond2 i = 1#1), ∀ a, (k0_off257 v997) a + S8x128.size a ≤ S131072x128.size a)
theorem k0_mult123_dvd : ∀ (i : grid0.Coords) (v997 : BitVec 32) (k0_hw62 : k0_chk62 i v997), ∀ (k0_h2 : k0_cond2 i = 1#1), 8 ∣ (k0_mult123 v997).toNat := fun i v997 k0_hw62 k0_h2 => k0_hw62.1 k0_h2
theorem k0_off257_inb : ∀ (i : grid0.Coords) (v997 : BitVec 32) (k0_hw62 : k0_chk62 i v997), ∀ (k0_h2 : k0_cond2 i = 1#1), ∀ a, (k0_off257 v997) a + S8x128.size a ≤ S131072x128.size a := fun i v997 k0_hw62 k0_h2 => k0_hw62.2 k0_h2

def k0_off258 (i : grid0.Coords) : Fin 3 → Nat :=
  let c0_600 : Index := 0#32
  let c0_601 : Index := 0#32
  let arg1 : BitVec 32 := BitVec.ofNat 32 (i 1).val
  let c2_i32_596 : BitVec 32 := 2#32
  let v1006 : BitVec 32 := Scalar.muli arg1 c2_i32_596
  let c0_i32_597 : BitVec 32 := 0#32
  let v1007 : BitVec 32 := Scalar.addi v1006 c0_i32_597
  let c256_i32_598 : BitVec 32 := 256#32
  let v1008 : BitVec 32 := Scalar.muli v1007 c256_i32_598
  let c61_i32 : BitVec 32 := 61#32
  let v1009 : BitVec 32 := Scalar.addi v1008 c61_i32
  let v1011 : Index := Scalar.indexCast v1009
  ![0, 0, v1011.toNat]
def k0_mult125 (v1012 : BitVec 32) : BitVec 32 :=
  v1012

def k0_mult126 (i : grid0.Coords) : BitVec 32 :=
  let arg1 : BitVec 32 := BitVec.ofNat 32 (i 1).val
  let c2_i32_596 : BitVec 32 := 2#32
  let v1006 : BitVec 32 := Scalar.muli arg1 c2_i32_596
  let c0_i32_597 : BitVec 32 := 0#32
  let v1007 : BitVec 32 := Scalar.addi v1006 c0_i32_597
  let c256_i32_598 : BitVec 32 := 256#32
  let v1008 : BitVec 32 := Scalar.muli v1007 c256_i32_598
  let c61_i32 : BitVec 32 := 61#32
  let v1009 : BitVec 32 := Scalar.addi v1008 c61_i32
  let c8_i32_602 : BitVec 32 := 8#32
  let v1014 : BitVec 32 := Scalar.muli v1009 c8_i32_602
  v1014
def k0_off259 (i : grid0.Coords) : Fin 1 → Nat :=
  let c1_i32_599 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1010 : BitVec 32 := Scalar.subi c1_i32_599 v9
  ![v1010.toNat]
def k0_off260 (i : grid0.Coords) : Fin 3 → Nat :=
  let c1_i32_599 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1010 : BitVec 32 := Scalar.subi c1_i32_599 v9
  let arg1 : BitVec 32 := BitVec.ofNat 32 (i 1).val
  let c2_i32_596 : BitVec 32 := 2#32
  let v1006 : BitVec 32 := Scalar.muli arg1 c2_i32_596
  let c0_i32_597 : BitVec 32 := 0#32
  let v1007 : BitVec 32 := Scalar.addi v1006 c0_i32_597
  let c256_i32_598 : BitVec 32 := 256#32
  let v1008 : BitVec 32 := Scalar.muli v1007 c256_i32_598
  let c61_i32 : BitVec 32 := 61#32
  let v1009 : BitVec 32 := Scalar.addi v1008 c61_i32
  let c8_i32_602 : BitVec 32 := 8#32
  let v1014 : BitVec 32 := Scalar.muli v1009 c8_i32_602
  let v1015 : BitVec 32 := v1014
  let c0_i32_603 : BitVec 32 := 0#32
  ![v1010.toNat, v1015.toNat, 0]
def k0_off261 (v1012 : BitVec 32) : Fin 2 → Nat :=
  let v1013 : BitVec 32 := v1012
  let c0_i32_604 : BitVec 32 := 0#32
  ![v1013.toNat, 0]

def k0_chk63 (i : grid0.Coords) (v1012 : BitVec 32) : Prop :=
  (∀ (k0_h2 : k0_cond2 i = 1#1), 8 ∣ (k0_mult125 v1012).toNat) ∧
  (∀ (k0_h2 : k0_cond2 i = 1#1), ∀ a, (k0_off261 v1012) a + S8x128.size a ≤ S131072x128.size a)
theorem k0_mult125_dvd : ∀ (i : grid0.Coords) (v1012 : BitVec 32) (k0_hw63 : k0_chk63 i v1012), ∀ (k0_h2 : k0_cond2 i = 1#1), 8 ∣ (k0_mult125 v1012).toNat := fun i v1012 k0_hw63 k0_h2 => k0_hw63.1 k0_h2
theorem k0_off261_inb : ∀ (i : grid0.Coords) (v1012 : BitVec 32) (k0_hw63 : k0_chk63 i v1012), ∀ (k0_h2 : k0_cond2 i = 1#1), ∀ a, (k0_off261 v1012) a + S8x128.size a ≤ S131072x128.size a := fun i v1012 k0_hw63 k0_h2 => k0_hw63.2 k0_h2

def k0_off262 (i : grid0.Coords) : Fin 3 → Nat :=
  let c0_609 : Index := 0#32
  let c0_610 : Index := 0#32
  let arg1 : BitVec 32 := BitVec.ofNat 32 (i 1).val
  let c2_i32_605 : BitVec 32 := 2#32
  let v1021 : BitVec 32 := Scalar.muli arg1 c2_i32_605
  let c0_i32_606 : BitVec 32 := 0#32
  let v1022 : BitVec 32 := Scalar.addi v1021 c0_i32_606
  let c256_i32_607 : BitVec 32 := 256#32
  let v1023 : BitVec 32 := Scalar.muli v1022 c256_i32_607
  let c62_i32 : BitVec 32 := 62#32
  let v1024 : BitVec 32 := Scalar.addi v1023 c62_i32
  let v1026 : Index := Scalar.indexCast v1024
  ![0, 0, v1026.toNat]
def k0_mult127 (v1027 : BitVec 32) : BitVec 32 :=
  v1027

def k0_mult128 (i : grid0.Coords) : BitVec 32 :=
  let arg1 : BitVec 32 := BitVec.ofNat 32 (i 1).val
  let c2_i32_605 : BitVec 32 := 2#32
  let v1021 : BitVec 32 := Scalar.muli arg1 c2_i32_605
  let c0_i32_606 : BitVec 32 := 0#32
  let v1022 : BitVec 32 := Scalar.addi v1021 c0_i32_606
  let c256_i32_607 : BitVec 32 := 256#32
  let v1023 : BitVec 32 := Scalar.muli v1022 c256_i32_607
  let c62_i32 : BitVec 32 := 62#32
  let v1024 : BitVec 32 := Scalar.addi v1023 c62_i32
  let c8_i32_611 : BitVec 32 := 8#32
  let v1029 : BitVec 32 := Scalar.muli v1024 c8_i32_611
  v1029
def k0_off263 (i : grid0.Coords) : Fin 1 → Nat :=
  let c1_i32_608 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1025 : BitVec 32 := Scalar.subi c1_i32_608 v9
  ![v1025.toNat]
def k0_off264 (i : grid0.Coords) : Fin 3 → Nat :=
  let c1_i32_608 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1025 : BitVec 32 := Scalar.subi c1_i32_608 v9
  let arg1 : BitVec 32 := BitVec.ofNat 32 (i 1).val
  let c2_i32_605 : BitVec 32 := 2#32
  let v1021 : BitVec 32 := Scalar.muli arg1 c2_i32_605
  let c0_i32_606 : BitVec 32 := 0#32
  let v1022 : BitVec 32 := Scalar.addi v1021 c0_i32_606
  let c256_i32_607 : BitVec 32 := 256#32
  let v1023 : BitVec 32 := Scalar.muli v1022 c256_i32_607
  let c62_i32 : BitVec 32 := 62#32
  let v1024 : BitVec 32 := Scalar.addi v1023 c62_i32
  let c8_i32_611 : BitVec 32 := 8#32
  let v1029 : BitVec 32 := Scalar.muli v1024 c8_i32_611
  let v1030 : BitVec 32 := v1029
  let c0_i32_612 : BitVec 32 := 0#32
  ![v1025.toNat, v1030.toNat, 0]
def k0_off265 (v1027 : BitVec 32) : Fin 2 → Nat :=
  let v1028 : BitVec 32 := v1027
  let c0_i32_613 : BitVec 32 := 0#32
  ![v1028.toNat, 0]

def k0_chk64 (i : grid0.Coords) (v1027 : BitVec 32) : Prop :=
  (∀ (k0_h2 : k0_cond2 i = 1#1), 8 ∣ (k0_mult127 v1027).toNat) ∧
  (∀ (k0_h2 : k0_cond2 i = 1#1), ∀ a, (k0_off265 v1027) a + S8x128.size a ≤ S131072x128.size a)
theorem k0_mult127_dvd : ∀ (i : grid0.Coords) (v1027 : BitVec 32) (k0_hw64 : k0_chk64 i v1027), ∀ (k0_h2 : k0_cond2 i = 1#1), 8 ∣ (k0_mult127 v1027).toNat := fun i v1027 k0_hw64 k0_h2 => k0_hw64.1 k0_h2
theorem k0_off265_inb : ∀ (i : grid0.Coords) (v1027 : BitVec 32) (k0_hw64 : k0_chk64 i v1027), ∀ (k0_h2 : k0_cond2 i = 1#1), ∀ a, (k0_off265 v1027) a + S8x128.size a ≤ S131072x128.size a := fun i v1027 k0_hw64 k0_h2 => k0_hw64.2 k0_h2

def k0_off266 (i : grid0.Coords) : Fin 3 → Nat :=
  let c0_618 : Index := 0#32
  let c0_619 : Index := 0#32
  let arg1 : BitVec 32 := BitVec.ofNat 32 (i 1).val
  let c2_i32_614 : BitVec 32 := 2#32
  let v1036 : BitVec 32 := Scalar.muli arg1 c2_i32_614
  let c0_i32_615 : BitVec 32 := 0#32
  let v1037 : BitVec 32 := Scalar.addi v1036 c0_i32_615
  let c256_i32_616 : BitVec 32 := 256#32
  let v1038 : BitVec 32 := Scalar.muli v1037 c256_i32_616
  let c63_i32 : BitVec 32 := 63#32
  let v1039 : BitVec 32 := Scalar.addi v1038 c63_i32
  let v1041 : Index := Scalar.indexCast v1039
  ![0, 0, v1041.toNat]
def k0_mult129 (v1042 : BitVec 32) : BitVec 32 :=
  v1042

def k0_mult130 (i : grid0.Coords) : BitVec 32 :=
  let arg1 : BitVec 32 := BitVec.ofNat 32 (i 1).val
  let c2_i32_614 : BitVec 32 := 2#32
  let v1036 : BitVec 32 := Scalar.muli arg1 c2_i32_614
  let c0_i32_615 : BitVec 32 := 0#32
  let v1037 : BitVec 32 := Scalar.addi v1036 c0_i32_615
  let c256_i32_616 : BitVec 32 := 256#32
  let v1038 : BitVec 32 := Scalar.muli v1037 c256_i32_616
  let c63_i32 : BitVec 32 := 63#32
  let v1039 : BitVec 32 := Scalar.addi v1038 c63_i32
  let c8_i32_620 : BitVec 32 := 8#32
  let v1044 : BitVec 32 := Scalar.muli v1039 c8_i32_620
  v1044
def k0_off267 (i : grid0.Coords) : Fin 1 → Nat :=
  let c1_i32_617 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1040 : BitVec 32 := Scalar.subi c1_i32_617 v9
  ![v1040.toNat]
def k0_off268 (i : grid0.Coords) : Fin 3 → Nat :=
  let c1_i32_617 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1040 : BitVec 32 := Scalar.subi c1_i32_617 v9
  let arg1 : BitVec 32 := BitVec.ofNat 32 (i 1).val
  let c2_i32_614 : BitVec 32 := 2#32
  let v1036 : BitVec 32 := Scalar.muli arg1 c2_i32_614
  let c0_i32_615 : BitVec 32 := 0#32
  let v1037 : BitVec 32 := Scalar.addi v1036 c0_i32_615
  let c256_i32_616 : BitVec 32 := 256#32
  let v1038 : BitVec 32 := Scalar.muli v1037 c256_i32_616
  let c63_i32 : BitVec 32 := 63#32
  let v1039 : BitVec 32 := Scalar.addi v1038 c63_i32
  let c8_i32_620 : BitVec 32 := 8#32
  let v1044 : BitVec 32 := Scalar.muli v1039 c8_i32_620
  let v1045 : BitVec 32 := v1044
  let c0_i32_621 : BitVec 32 := 0#32
  ![v1040.toNat, v1045.toNat, 0]
def k0_off269 (v1042 : BitVec 32) : Fin 2 → Nat :=
  let v1043 : BitVec 32 := v1042
  let c0_i32_622 : BitVec 32 := 0#32
  ![v1043.toNat, 0]

def k0_chk65 (i : grid0.Coords) (v1042 : BitVec 32) : Prop :=
  (∀ (k0_h2 : k0_cond2 i = 1#1), 8 ∣ (k0_mult129 v1042).toNat) ∧
  (∀ (k0_h2 : k0_cond2 i = 1#1), ∀ a, (k0_off269 v1042) a + S8x128.size a ≤ S131072x128.size a)
theorem k0_mult129_dvd : ∀ (i : grid0.Coords) (v1042 : BitVec 32) (k0_hw65 : k0_chk65 i v1042), ∀ (k0_h2 : k0_cond2 i = 1#1), 8 ∣ (k0_mult129 v1042).toNat := fun i v1042 k0_hw65 k0_h2 => k0_hw65.1 k0_h2
theorem k0_off269_inb : ∀ (i : grid0.Coords) (v1042 : BitVec 32) (k0_hw65 : k0_chk65 i v1042), ∀ (k0_h2 : k0_cond2 i = 1#1), ∀ a, (k0_off269 v1042) a + S8x128.size a ≤ S131072x128.size a := fun i v1042 k0_hw65 k0_h2 => k0_hw65.2 k0_h2

def k0_off270 (i : grid0.Coords) : Fin 3 → Nat :=
  let c0_627 : Index := 0#32
  let c0_628 : Index := 0#32
  let arg1 : BitVec 32 := BitVec.ofNat 32 (i 1).val
  let c2_i32_623 : BitVec 32 := 2#32
  let v1051 : BitVec 32 := Scalar.muli arg1 c2_i32_623
  let c0_i32_624 : BitVec 32 := 0#32
  let v1052 : BitVec 32 := Scalar.addi v1051 c0_i32_624
  let c256_i32_625 : BitVec 32 := 256#32
  let v1053 : BitVec 32 := Scalar.muli v1052 c256_i32_625
  let c64_i32 : BitVec 32 := 64#32
  let v1054 : BitVec 32 := Scalar.addi v1053 c64_i32
  let v1056 : Index := Scalar.indexCast v1054
  ![0, 0, v1056.toNat]
def k0_mult131 (v1057 : BitVec 32) : BitVec 32 :=
  v1057

def k0_mult132 (i : grid0.Coords) : BitVec 32 :=
  let arg1 : BitVec 32 := BitVec.ofNat 32 (i 1).val
  let c2_i32_623 : BitVec 32 := 2#32
  let v1051 : BitVec 32 := Scalar.muli arg1 c2_i32_623
  let c0_i32_624 : BitVec 32 := 0#32
  let v1052 : BitVec 32 := Scalar.addi v1051 c0_i32_624
  let c256_i32_625 : BitVec 32 := 256#32
  let v1053 : BitVec 32 := Scalar.muli v1052 c256_i32_625
  let c64_i32 : BitVec 32 := 64#32
  let v1054 : BitVec 32 := Scalar.addi v1053 c64_i32
  let c8_i32_629 : BitVec 32 := 8#32
  let v1059 : BitVec 32 := Scalar.muli v1054 c8_i32_629
  v1059
def k0_off271 (i : grid0.Coords) : Fin 1 → Nat :=
  let c1_i32_626 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1055 : BitVec 32 := Scalar.subi c1_i32_626 v9
  ![v1055.toNat]
def k0_off272 (i : grid0.Coords) : Fin 3 → Nat :=
  let c1_i32_626 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1055 : BitVec 32 := Scalar.subi c1_i32_626 v9
  let arg1 : BitVec 32 := BitVec.ofNat 32 (i 1).val
  let c2_i32_623 : BitVec 32 := 2#32
  let v1051 : BitVec 32 := Scalar.muli arg1 c2_i32_623
  let c0_i32_624 : BitVec 32 := 0#32
  let v1052 : BitVec 32 := Scalar.addi v1051 c0_i32_624
  let c256_i32_625 : BitVec 32 := 256#32
  let v1053 : BitVec 32 := Scalar.muli v1052 c256_i32_625
  let c64_i32 : BitVec 32 := 64#32
  let v1054 : BitVec 32 := Scalar.addi v1053 c64_i32
  let c8_i32_629 : BitVec 32 := 8#32
  let v1059 : BitVec 32 := Scalar.muli v1054 c8_i32_629
  let v1060 : BitVec 32 := v1059
  let c0_i32_630 : BitVec 32 := 0#32
  ![v1055.toNat, v1060.toNat, 0]
def k0_off273 (v1057 : BitVec 32) : Fin 2 → Nat :=
  let v1058 : BitVec 32 := v1057
  let c0_i32_631 : BitVec 32 := 0#32
  ![v1058.toNat, 0]

def k0_chk66 (i : grid0.Coords) (v1057 : BitVec 32) : Prop :=
  (∀ (k0_h2 : k0_cond2 i = 1#1), 8 ∣ (k0_mult131 v1057).toNat) ∧
  (∀ (k0_h2 : k0_cond2 i = 1#1), ∀ a, (k0_off273 v1057) a + S8x128.size a ≤ S131072x128.size a)
theorem k0_mult131_dvd : ∀ (i : grid0.Coords) (v1057 : BitVec 32) (k0_hw66 : k0_chk66 i v1057), ∀ (k0_h2 : k0_cond2 i = 1#1), 8 ∣ (k0_mult131 v1057).toNat := fun i v1057 k0_hw66 k0_h2 => k0_hw66.1 k0_h2
theorem k0_off273_inb : ∀ (i : grid0.Coords) (v1057 : BitVec 32) (k0_hw66 : k0_chk66 i v1057), ∀ (k0_h2 : k0_cond2 i = 1#1), ∀ a, (k0_off273 v1057) a + S8x128.size a ≤ S131072x128.size a := fun i v1057 k0_hw66 k0_h2 => k0_hw66.2 k0_h2

def k0_off274 (i : grid0.Coords) : Fin 3 → Nat :=
  let c0_636 : Index := 0#32
  let c0_637 : Index := 0#32
  let arg1 : BitVec 32 := BitVec.ofNat 32 (i 1).val
  let c2_i32_632 : BitVec 32 := 2#32
  let v1066 : BitVec 32 := Scalar.muli arg1 c2_i32_632
  let c0_i32_633 : BitVec 32 := 0#32
  let v1067 : BitVec 32 := Scalar.addi v1066 c0_i32_633
  let c256_i32_634 : BitVec 32 := 256#32
  let v1068 : BitVec 32 := Scalar.muli v1067 c256_i32_634
  let c65_i32 : BitVec 32 := 65#32
  let v1069 : BitVec 32 := Scalar.addi v1068 c65_i32
  let v1071 : Index := Scalar.indexCast v1069
  ![0, 0, v1071.toNat]
def k0_mult133 (v1072 : BitVec 32) : BitVec 32 :=
  v1072

def k0_mult134 (i : grid0.Coords) : BitVec 32 :=
  let arg1 : BitVec 32 := BitVec.ofNat 32 (i 1).val
  let c2_i32_632 : BitVec 32 := 2#32
  let v1066 : BitVec 32 := Scalar.muli arg1 c2_i32_632
  let c0_i32_633 : BitVec 32 := 0#32
  let v1067 : BitVec 32 := Scalar.addi v1066 c0_i32_633
  let c256_i32_634 : BitVec 32 := 256#32
  let v1068 : BitVec 32 := Scalar.muli v1067 c256_i32_634
  let c65_i32 : BitVec 32 := 65#32
  let v1069 : BitVec 32 := Scalar.addi v1068 c65_i32
  let c8_i32_638 : BitVec 32 := 8#32
  let v1074 : BitVec 32 := Scalar.muli v1069 c8_i32_638
  v1074
def k0_off275 (i : grid0.Coords) : Fin 1 → Nat :=
  let c1_i32_635 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1070 : BitVec 32 := Scalar.subi c1_i32_635 v9
  ![v1070.toNat]
def k0_off276 (i : grid0.Coords) : Fin 3 → Nat :=
  let c1_i32_635 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1070 : BitVec 32 := Scalar.subi c1_i32_635 v9
  let arg1 : BitVec 32 := BitVec.ofNat 32 (i 1).val
  let c2_i32_632 : BitVec 32 := 2#32
  let v1066 : BitVec 32 := Scalar.muli arg1 c2_i32_632
  let c0_i32_633 : BitVec 32 := 0#32
  let v1067 : BitVec 32 := Scalar.addi v1066 c0_i32_633
  let c256_i32_634 : BitVec 32 := 256#32
  let v1068 : BitVec 32 := Scalar.muli v1067 c256_i32_634
  let c65_i32 : BitVec 32 := 65#32
  let v1069 : BitVec 32 := Scalar.addi v1068 c65_i32
  let c8_i32_638 : BitVec 32 := 8#32
  let v1074 : BitVec 32 := Scalar.muli v1069 c8_i32_638
  let v1075 : BitVec 32 := v1074
  let c0_i32_639 : BitVec 32 := 0#32
  ![v1070.toNat, v1075.toNat, 0]
def k0_off277 (v1072 : BitVec 32) : Fin 2 → Nat :=
  let v1073 : BitVec 32 := v1072
  let c0_i32_640 : BitVec 32 := 0#32
  ![v1073.toNat, 0]

def k0_chk67 (i : grid0.Coords) (v1072 : BitVec 32) : Prop :=
  (∀ (k0_h2 : k0_cond2 i = 1#1), 8 ∣ (k0_mult133 v1072).toNat) ∧
  (∀ (k0_h2 : k0_cond2 i = 1#1), ∀ a, (k0_off277 v1072) a + S8x128.size a ≤ S131072x128.size a)
theorem k0_mult133_dvd : ∀ (i : grid0.Coords) (v1072 : BitVec 32) (k0_hw67 : k0_chk67 i v1072), ∀ (k0_h2 : k0_cond2 i = 1#1), 8 ∣ (k0_mult133 v1072).toNat := fun i v1072 k0_hw67 k0_h2 => k0_hw67.1 k0_h2
theorem k0_off277_inb : ∀ (i : grid0.Coords) (v1072 : BitVec 32) (k0_hw67 : k0_chk67 i v1072), ∀ (k0_h2 : k0_cond2 i = 1#1), ∀ a, (k0_off277 v1072) a + S8x128.size a ≤ S131072x128.size a := fun i v1072 k0_hw67 k0_h2 => k0_hw67.2 k0_h2

def k0_off278 (i : grid0.Coords) : Fin 3 → Nat :=
  let c0_645 : Index := 0#32
  let c0_646 : Index := 0#32
  let arg1 : BitVec 32 := BitVec.ofNat 32 (i 1).val
  let c2_i32_641 : BitVec 32 := 2#32
  let v1081 : BitVec 32 := Scalar.muli arg1 c2_i32_641
  let c0_i32_642 : BitVec 32 := 0#32
  let v1082 : BitVec 32 := Scalar.addi v1081 c0_i32_642
  let c256_i32_643 : BitVec 32 := 256#32
  let v1083 : BitVec 32 := Scalar.muli v1082 c256_i32_643
  let c66_i32 : BitVec 32 := 66#32
  let v1084 : BitVec 32 := Scalar.addi v1083 c66_i32
  let v1086 : Index := Scalar.indexCast v1084
  ![0, 0, v1086.toNat]
def k0_mult135 (v1087 : BitVec 32) : BitVec 32 :=
  v1087

def k0_mult136 (i : grid0.Coords) : BitVec 32 :=
  let arg1 : BitVec 32 := BitVec.ofNat 32 (i 1).val
  let c2_i32_641 : BitVec 32 := 2#32
  let v1081 : BitVec 32 := Scalar.muli arg1 c2_i32_641
  let c0_i32_642 : BitVec 32 := 0#32
  let v1082 : BitVec 32 := Scalar.addi v1081 c0_i32_642
  let c256_i32_643 : BitVec 32 := 256#32
  let v1083 : BitVec 32 := Scalar.muli v1082 c256_i32_643
  let c66_i32 : BitVec 32 := 66#32
  let v1084 : BitVec 32 := Scalar.addi v1083 c66_i32
  let c8_i32_647 : BitVec 32 := 8#32
  let v1089 : BitVec 32 := Scalar.muli v1084 c8_i32_647
  v1089
def k0_off279 (i : grid0.Coords) : Fin 1 → Nat :=
  let c1_i32_644 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1085 : BitVec 32 := Scalar.subi c1_i32_644 v9
  ![v1085.toNat]
def k0_off280 (i : grid0.Coords) : Fin 3 → Nat :=
  let c1_i32_644 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1085 : BitVec 32 := Scalar.subi c1_i32_644 v9
  let arg1 : BitVec 32 := BitVec.ofNat 32 (i 1).val
  let c2_i32_641 : BitVec 32 := 2#32
  let v1081 : BitVec 32 := Scalar.muli arg1 c2_i32_641
  let c0_i32_642 : BitVec 32 := 0#32
  let v1082 : BitVec 32 := Scalar.addi v1081 c0_i32_642
  let c256_i32_643 : BitVec 32 := 256#32
  let v1083 : BitVec 32 := Scalar.muli v1082 c256_i32_643
  let c66_i32 : BitVec 32 := 66#32
  let v1084 : BitVec 32 := Scalar.addi v1083 c66_i32
  let c8_i32_647 : BitVec 32 := 8#32
  let v1089 : BitVec 32 := Scalar.muli v1084 c8_i32_647
  let v1090 : BitVec 32 := v1089
  let c0_i32_648 : BitVec 32 := 0#32
  ![v1085.toNat, v1090.toNat, 0]
def k0_off281 (v1087 : BitVec 32) : Fin 2 → Nat :=
  let v1088 : BitVec 32 := v1087
  let c0_i32_649 : BitVec 32 := 0#32
  ![v1088.toNat, 0]

def k0_chk68 (i : grid0.Coords) (v1087 : BitVec 32) : Prop :=
  (∀ (k0_h2 : k0_cond2 i = 1#1), 8 ∣ (k0_mult135 v1087).toNat) ∧
  (∀ (k0_h2 : k0_cond2 i = 1#1), ∀ a, (k0_off281 v1087) a + S8x128.size a ≤ S131072x128.size a)
theorem k0_mult135_dvd : ∀ (i : grid0.Coords) (v1087 : BitVec 32) (k0_hw68 : k0_chk68 i v1087), ∀ (k0_h2 : k0_cond2 i = 1#1), 8 ∣ (k0_mult135 v1087).toNat := fun i v1087 k0_hw68 k0_h2 => k0_hw68.1 k0_h2
theorem k0_off281_inb : ∀ (i : grid0.Coords) (v1087 : BitVec 32) (k0_hw68 : k0_chk68 i v1087), ∀ (k0_h2 : k0_cond2 i = 1#1), ∀ a, (k0_off281 v1087) a + S8x128.size a ≤ S131072x128.size a := fun i v1087 k0_hw68 k0_h2 => k0_hw68.2 k0_h2

def k0_off282 (i : grid0.Coords) : Fin 3 → Nat :=
  let c0_654 : Index := 0#32
  let c0_655 : Index := 0#32
  let arg1 : BitVec 32 := BitVec.ofNat 32 (i 1).val
  let c2_i32_650 : BitVec 32 := 2#32
  let v1096 : BitVec 32 := Scalar.muli arg1 c2_i32_650
  let c0_i32_651 : BitVec 32 := 0#32
  let v1097 : BitVec 32 := Scalar.addi v1096 c0_i32_651
  let c256_i32_652 : BitVec 32 := 256#32
  let v1098 : BitVec 32 := Scalar.muli v1097 c256_i32_652
  let c67_i32 : BitVec 32 := 67#32
  let v1099 : BitVec 32 := Scalar.addi v1098 c67_i32
  let v1101 : Index := Scalar.indexCast v1099
  ![0, 0, v1101.toNat]
def k0_mult137 (v1102 : BitVec 32) : BitVec 32 :=
  v1102

def k0_mult138 (i : grid0.Coords) : BitVec 32 :=
  let arg1 : BitVec 32 := BitVec.ofNat 32 (i 1).val
  let c2_i32_650 : BitVec 32 := 2#32
  let v1096 : BitVec 32 := Scalar.muli arg1 c2_i32_650
  let c0_i32_651 : BitVec 32 := 0#32
  let v1097 : BitVec 32 := Scalar.addi v1096 c0_i32_651
  let c256_i32_652 : BitVec 32 := 256#32
  let v1098 : BitVec 32 := Scalar.muli v1097 c256_i32_652
  let c67_i32 : BitVec 32 := 67#32
  let v1099 : BitVec 32 := Scalar.addi v1098 c67_i32
  let c8_i32_656 : BitVec 32 := 8#32
  let v1104 : BitVec 32 := Scalar.muli v1099 c8_i32_656
  v1104
def k0_off283 (i : grid0.Coords) : Fin 1 → Nat :=
  let c1_i32_653 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1100 : BitVec 32 := Scalar.subi c1_i32_653 v9
  ![v1100.toNat]
def k0_off284 (i : grid0.Coords) : Fin 3 → Nat :=
  let c1_i32_653 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1100 : BitVec 32 := Scalar.subi c1_i32_653 v9
  let arg1 : BitVec 32 := BitVec.ofNat 32 (i 1).val
  let c2_i32_650 : BitVec 32 := 2#32
  let v1096 : BitVec 32 := Scalar.muli arg1 c2_i32_650
  let c0_i32_651 : BitVec 32 := 0#32
  let v1097 : BitVec 32 := Scalar.addi v1096 c0_i32_651
  let c256_i32_652 : BitVec 32 := 256#32
  let v1098 : BitVec 32 := Scalar.muli v1097 c256_i32_652
  let c67_i32 : BitVec 32 := 67#32
  let v1099 : BitVec 32 := Scalar.addi v1098 c67_i32
  let c8_i32_656 : BitVec 32 := 8#32
  let v1104 : BitVec 32 := Scalar.muli v1099 c8_i32_656
  let v1105 : BitVec 32 := v1104
  let c0_i32_657 : BitVec 32 := 0#32
  ![v1100.toNat, v1105.toNat, 0]
def k0_off285 (v1102 : BitVec 32) : Fin 2 → Nat :=
  let v1103 : BitVec 32 := v1102
  let c0_i32_658 : BitVec 32 := 0#32
  ![v1103.toNat, 0]

def k0_chk69 (i : grid0.Coords) (v1102 : BitVec 32) : Prop :=
  (∀ (k0_h2 : k0_cond2 i = 1#1), 8 ∣ (k0_mult137 v1102).toNat) ∧
  (∀ (k0_h2 : k0_cond2 i = 1#1), ∀ a, (k0_off285 v1102) a + S8x128.size a ≤ S131072x128.size a)
theorem k0_mult137_dvd : ∀ (i : grid0.Coords) (v1102 : BitVec 32) (k0_hw69 : k0_chk69 i v1102), ∀ (k0_h2 : k0_cond2 i = 1#1), 8 ∣ (k0_mult137 v1102).toNat := fun i v1102 k0_hw69 k0_h2 => k0_hw69.1 k0_h2
theorem k0_off285_inb : ∀ (i : grid0.Coords) (v1102 : BitVec 32) (k0_hw69 : k0_chk69 i v1102), ∀ (k0_h2 : k0_cond2 i = 1#1), ∀ a, (k0_off285 v1102) a + S8x128.size a ≤ S131072x128.size a := fun i v1102 k0_hw69 k0_h2 => k0_hw69.2 k0_h2

def k0_off286 (i : grid0.Coords) : Fin 3 → Nat :=
  let c0_663 : Index := 0#32
  let c0_664 : Index := 0#32
  let arg1 : BitVec 32 := BitVec.ofNat 32 (i 1).val
  let c2_i32_659 : BitVec 32 := 2#32
  let v1111 : BitVec 32 := Scalar.muli arg1 c2_i32_659
  let c0_i32_660 : BitVec 32 := 0#32
  let v1112 : BitVec 32 := Scalar.addi v1111 c0_i32_660
  let c256_i32_661 : BitVec 32 := 256#32
  let v1113 : BitVec 32 := Scalar.muli v1112 c256_i32_661
  let c68_i32 : BitVec 32 := 68#32
  let v1114 : BitVec 32 := Scalar.addi v1113 c68_i32
  let v1116 : Index := Scalar.indexCast v1114
  ![0, 0, v1116.toNat]
def k0_mult139 (v1117 : BitVec 32) : BitVec 32 :=
  v1117

def k0_mult140 (i : grid0.Coords) : BitVec 32 :=
  let arg1 : BitVec 32 := BitVec.ofNat 32 (i 1).val
  let c2_i32_659 : BitVec 32 := 2#32
  let v1111 : BitVec 32 := Scalar.muli arg1 c2_i32_659
  let c0_i32_660 : BitVec 32 := 0#32
  let v1112 : BitVec 32 := Scalar.addi v1111 c0_i32_660
  let c256_i32_661 : BitVec 32 := 256#32
  let v1113 : BitVec 32 := Scalar.muli v1112 c256_i32_661
  let c68_i32 : BitVec 32 := 68#32
  let v1114 : BitVec 32 := Scalar.addi v1113 c68_i32
  let c8_i32_665 : BitVec 32 := 8#32
  let v1119 : BitVec 32 := Scalar.muli v1114 c8_i32_665
  v1119
def k0_off287 (i : grid0.Coords) : Fin 1 → Nat :=
  let c1_i32_662 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1115 : BitVec 32 := Scalar.subi c1_i32_662 v9
  ![v1115.toNat]
def k0_off288 (i : grid0.Coords) : Fin 3 → Nat :=
  let c1_i32_662 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1115 : BitVec 32 := Scalar.subi c1_i32_662 v9
  let arg1 : BitVec 32 := BitVec.ofNat 32 (i 1).val
  let c2_i32_659 : BitVec 32 := 2#32
  let v1111 : BitVec 32 := Scalar.muli arg1 c2_i32_659
  let c0_i32_660 : BitVec 32 := 0#32
  let v1112 : BitVec 32 := Scalar.addi v1111 c0_i32_660
  let c256_i32_661 : BitVec 32 := 256#32
  let v1113 : BitVec 32 := Scalar.muli v1112 c256_i32_661
  let c68_i32 : BitVec 32 := 68#32
  let v1114 : BitVec 32 := Scalar.addi v1113 c68_i32
  let c8_i32_665 : BitVec 32 := 8#32
  let v1119 : BitVec 32 := Scalar.muli v1114 c8_i32_665
  let v1120 : BitVec 32 := v1119
  let c0_i32_666 : BitVec 32 := 0#32
  ![v1115.toNat, v1120.toNat, 0]
def k0_off289 (v1117 : BitVec 32) : Fin 2 → Nat :=
  let v1118 : BitVec 32 := v1117
  let c0_i32_667 : BitVec 32 := 0#32
  ![v1118.toNat, 0]

def k0_chk70 (i : grid0.Coords) (v1117 : BitVec 32) : Prop :=
  (∀ (k0_h2 : k0_cond2 i = 1#1), 8 ∣ (k0_mult139 v1117).toNat) ∧
  (∀ (k0_h2 : k0_cond2 i = 1#1), ∀ a, (k0_off289 v1117) a + S8x128.size a ≤ S131072x128.size a)
theorem k0_mult139_dvd : ∀ (i : grid0.Coords) (v1117 : BitVec 32) (k0_hw70 : k0_chk70 i v1117), ∀ (k0_h2 : k0_cond2 i = 1#1), 8 ∣ (k0_mult139 v1117).toNat := fun i v1117 k0_hw70 k0_h2 => k0_hw70.1 k0_h2
theorem k0_off289_inb : ∀ (i : grid0.Coords) (v1117 : BitVec 32) (k0_hw70 : k0_chk70 i v1117), ∀ (k0_h2 : k0_cond2 i = 1#1), ∀ a, (k0_off289 v1117) a + S8x128.size a ≤ S131072x128.size a := fun i v1117 k0_hw70 k0_h2 => k0_hw70.2 k0_h2

def k0_off290 (i : grid0.Coords) : Fin 3 → Nat :=
  let c0_672 : Index := 0#32
  let c0_673 : Index := 0#32
  let arg1 : BitVec 32 := BitVec.ofNat 32 (i 1).val
  let c2_i32_668 : BitVec 32 := 2#32
  let v1126 : BitVec 32 := Scalar.muli arg1 c2_i32_668
  let c0_i32_669 : BitVec 32 := 0#32
  let v1127 : BitVec 32 := Scalar.addi v1126 c0_i32_669
  let c256_i32_670 : BitVec 32 := 256#32
  let v1128 : BitVec 32 := Scalar.muli v1127 c256_i32_670
  let c69_i32 : BitVec 32 := 69#32
  let v1129 : BitVec 32 := Scalar.addi v1128 c69_i32
  let v1131 : Index := Scalar.indexCast v1129
  ![0, 0, v1131.toNat]
def k0_mult141 (v1132 : BitVec 32) : BitVec 32 :=
  v1132

def k0_mult142 (i : grid0.Coords) : BitVec 32 :=
  let arg1 : BitVec 32 := BitVec.ofNat 32 (i 1).val
  let c2_i32_668 : BitVec 32 := 2#32
  let v1126 : BitVec 32 := Scalar.muli arg1 c2_i32_668
  let c0_i32_669 : BitVec 32 := 0#32
  let v1127 : BitVec 32 := Scalar.addi v1126 c0_i32_669
  let c256_i32_670 : BitVec 32 := 256#32
  let v1128 : BitVec 32 := Scalar.muli v1127 c256_i32_670
  let c69_i32 : BitVec 32 := 69#32
  let v1129 : BitVec 32 := Scalar.addi v1128 c69_i32
  let c8_i32_674 : BitVec 32 := 8#32
  let v1134 : BitVec 32 := Scalar.muli v1129 c8_i32_674
  v1134
def k0_off291 (i : grid0.Coords) : Fin 1 → Nat :=
  let c1_i32_671 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1130 : BitVec 32 := Scalar.subi c1_i32_671 v9
  ![v1130.toNat]
def k0_off292 (i : grid0.Coords) : Fin 3 → Nat :=
  let c1_i32_671 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1130 : BitVec 32 := Scalar.subi c1_i32_671 v9
  let arg1 : BitVec 32 := BitVec.ofNat 32 (i 1).val
  let c2_i32_668 : BitVec 32 := 2#32
  let v1126 : BitVec 32 := Scalar.muli arg1 c2_i32_668
  let c0_i32_669 : BitVec 32 := 0#32
  let v1127 : BitVec 32 := Scalar.addi v1126 c0_i32_669
  let c256_i32_670 : BitVec 32 := 256#32
  let v1128 : BitVec 32 := Scalar.muli v1127 c256_i32_670
  let c69_i32 : BitVec 32 := 69#32
  let v1129 : BitVec 32 := Scalar.addi v1128 c69_i32
  let c8_i32_674 : BitVec 32 := 8#32
  let v1134 : BitVec 32 := Scalar.muli v1129 c8_i32_674
  let v1135 : BitVec 32 := v1134
  let c0_i32_675 : BitVec 32 := 0#32
  ![v1130.toNat, v1135.toNat, 0]
def k0_off293 (v1132 : BitVec 32) : Fin 2 → Nat :=
  let v1133 : BitVec 32 := v1132
  let c0_i32_676 : BitVec 32 := 0#32
  ![v1133.toNat, 0]

def k0_chk71 (i : grid0.Coords) (v1132 : BitVec 32) : Prop :=
  (∀ (k0_h2 : k0_cond2 i = 1#1), 8 ∣ (k0_mult141 v1132).toNat) ∧
  (∀ (k0_h2 : k0_cond2 i = 1#1), ∀ a, (k0_off293 v1132) a + S8x128.size a ≤ S131072x128.size a)
theorem k0_mult141_dvd : ∀ (i : grid0.Coords) (v1132 : BitVec 32) (k0_hw71 : k0_chk71 i v1132), ∀ (k0_h2 : k0_cond2 i = 1#1), 8 ∣ (k0_mult141 v1132).toNat := fun i v1132 k0_hw71 k0_h2 => k0_hw71.1 k0_h2
theorem k0_off293_inb : ∀ (i : grid0.Coords) (v1132 : BitVec 32) (k0_hw71 : k0_chk71 i v1132), ∀ (k0_h2 : k0_cond2 i = 1#1), ∀ a, (k0_off293 v1132) a + S8x128.size a ≤ S131072x128.size a := fun i v1132 k0_hw71 k0_h2 => k0_hw71.2 k0_h2

def k0_off294 (i : grid0.Coords) : Fin 3 → Nat :=
  let c0_681 : Index := 0#32
  let c0_682 : Index := 0#32
  let arg1 : BitVec 32 := BitVec.ofNat 32 (i 1).val
  let c2_i32_677 : BitVec 32 := 2#32
  let v1141 : BitVec 32 := Scalar.muli arg1 c2_i32_677
  let c0_i32_678 : BitVec 32 := 0#32
  let v1142 : BitVec 32 := Scalar.addi v1141 c0_i32_678
  let c256_i32_679 : BitVec 32 := 256#32
  let v1143 : BitVec 32 := Scalar.muli v1142 c256_i32_679
  let c70_i32 : BitVec 32 := 70#32
  let v1144 : BitVec 32 := Scalar.addi v1143 c70_i32
  let v1146 : Index := Scalar.indexCast v1144
  ![0, 0, v1146.toNat]
def k0_mult143 (v1147 : BitVec 32) : BitVec 32 :=
  v1147

def k0_mult144 (i : grid0.Coords) : BitVec 32 :=
  let arg1 : BitVec 32 := BitVec.ofNat 32 (i 1).val
  let c2_i32_677 : BitVec 32 := 2#32
  let v1141 : BitVec 32 := Scalar.muli arg1 c2_i32_677
  let c0_i32_678 : BitVec 32 := 0#32
  let v1142 : BitVec 32 := Scalar.addi v1141 c0_i32_678
  let c256_i32_679 : BitVec 32 := 256#32
  let v1143 : BitVec 32 := Scalar.muli v1142 c256_i32_679
  let c70_i32 : BitVec 32 := 70#32
  let v1144 : BitVec 32 := Scalar.addi v1143 c70_i32
  let c8_i32_683 : BitVec 32 := 8#32
  let v1149 : BitVec 32 := Scalar.muli v1144 c8_i32_683
  v1149
def k0_off295 (i : grid0.Coords) : Fin 1 → Nat :=
  let c1_i32_680 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1145 : BitVec 32 := Scalar.subi c1_i32_680 v9
  ![v1145.toNat]
def k0_off296 (i : grid0.Coords) : Fin 3 → Nat :=
  let c1_i32_680 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1145 : BitVec 32 := Scalar.subi c1_i32_680 v9
  let arg1 : BitVec 32 := BitVec.ofNat 32 (i 1).val
  let c2_i32_677 : BitVec 32 := 2#32
  let v1141 : BitVec 32 := Scalar.muli arg1 c2_i32_677
  let c0_i32_678 : BitVec 32 := 0#32
  let v1142 : BitVec 32 := Scalar.addi v1141 c0_i32_678
  let c256_i32_679 : BitVec 32 := 256#32
  let v1143 : BitVec 32 := Scalar.muli v1142 c256_i32_679
  let c70_i32 : BitVec 32 := 70#32
  let v1144 : BitVec 32 := Scalar.addi v1143 c70_i32
  let c8_i32_683 : BitVec 32 := 8#32
  let v1149 : BitVec 32 := Scalar.muli v1144 c8_i32_683
  let v1150 : BitVec 32 := v1149
  let c0_i32_684 : BitVec 32 := 0#32
  ![v1145.toNat, v1150.toNat, 0]
def k0_off297 (v1147 : BitVec 32) : Fin 2 → Nat :=
  let v1148 : BitVec 32 := v1147
  let c0_i32_685 : BitVec 32 := 0#32
  ![v1148.toNat, 0]

def k0_chk72 (i : grid0.Coords) (v1147 : BitVec 32) : Prop :=
  (∀ (k0_h2 : k0_cond2 i = 1#1), 8 ∣ (k0_mult143 v1147).toNat) ∧
  (∀ (k0_h2 : k0_cond2 i = 1#1), ∀ a, (k0_off297 v1147) a + S8x128.size a ≤ S131072x128.size a)
theorem k0_mult143_dvd : ∀ (i : grid0.Coords) (v1147 : BitVec 32) (k0_hw72 : k0_chk72 i v1147), ∀ (k0_h2 : k0_cond2 i = 1#1), 8 ∣ (k0_mult143 v1147).toNat := fun i v1147 k0_hw72 k0_h2 => k0_hw72.1 k0_h2
theorem k0_off297_inb : ∀ (i : grid0.Coords) (v1147 : BitVec 32) (k0_hw72 : k0_chk72 i v1147), ∀ (k0_h2 : k0_cond2 i = 1#1), ∀ a, (k0_off297 v1147) a + S8x128.size a ≤ S131072x128.size a := fun i v1147 k0_hw72 k0_h2 => k0_hw72.2 k0_h2

def k0_off298 (i : grid0.Coords) : Fin 3 → Nat :=
  let c0_690 : Index := 0#32
  let c0_691 : Index := 0#32
  let arg1 : BitVec 32 := BitVec.ofNat 32 (i 1).val
  let c2_i32_686 : BitVec 32 := 2#32
  let v1156 : BitVec 32 := Scalar.muli arg1 c2_i32_686
  let c0_i32_687 : BitVec 32 := 0#32
  let v1157 : BitVec 32 := Scalar.addi v1156 c0_i32_687
  let c256_i32_688 : BitVec 32 := 256#32
  let v1158 : BitVec 32 := Scalar.muli v1157 c256_i32_688
  let c71_i32 : BitVec 32 := 71#32
  let v1159 : BitVec 32 := Scalar.addi v1158 c71_i32
  let v1161 : Index := Scalar.indexCast v1159
  ![0, 0, v1161.toNat]
def k0_mult145 (v1162 : BitVec 32) : BitVec 32 :=
  v1162

def k0_mult146 (i : grid0.Coords) : BitVec 32 :=
  let arg1 : BitVec 32 := BitVec.ofNat 32 (i 1).val
  let c2_i32_686 : BitVec 32 := 2#32
  let v1156 : BitVec 32 := Scalar.muli arg1 c2_i32_686
  let c0_i32_687 : BitVec 32 := 0#32
  let v1157 : BitVec 32 := Scalar.addi v1156 c0_i32_687
  let c256_i32_688 : BitVec 32 := 256#32
  let v1158 : BitVec 32 := Scalar.muli v1157 c256_i32_688
  let c71_i32 : BitVec 32 := 71#32
  let v1159 : BitVec 32 := Scalar.addi v1158 c71_i32
  let c8_i32_692 : BitVec 32 := 8#32
  let v1164 : BitVec 32 := Scalar.muli v1159 c8_i32_692
  v1164
def k0_off299 (i : grid0.Coords) : Fin 1 → Nat :=
  let c1_i32_689 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1160 : BitVec 32 := Scalar.subi c1_i32_689 v9
  ![v1160.toNat]
def k0_off300 (i : grid0.Coords) : Fin 3 → Nat :=
  let c1_i32_689 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1160 : BitVec 32 := Scalar.subi c1_i32_689 v9
  let arg1 : BitVec 32 := BitVec.ofNat 32 (i 1).val
  let c2_i32_686 : BitVec 32 := 2#32
  let v1156 : BitVec 32 := Scalar.muli arg1 c2_i32_686
  let c0_i32_687 : BitVec 32 := 0#32
  let v1157 : BitVec 32 := Scalar.addi v1156 c0_i32_687
  let c256_i32_688 : BitVec 32 := 256#32
  let v1158 : BitVec 32 := Scalar.muli v1157 c256_i32_688
  let c71_i32 : BitVec 32 := 71#32
  let v1159 : BitVec 32 := Scalar.addi v1158 c71_i32
  let c8_i32_692 : BitVec 32 := 8#32
  let v1164 : BitVec 32 := Scalar.muli v1159 c8_i32_692
  let v1165 : BitVec 32 := v1164
  let c0_i32_693 : BitVec 32 := 0#32
  ![v1160.toNat, v1165.toNat, 0]
def k0_off301 (v1162 : BitVec 32) : Fin 2 → Nat :=
  let v1163 : BitVec 32 := v1162
  let c0_i32_694 : BitVec 32 := 0#32
  ![v1163.toNat, 0]

def k0_chk73 (i : grid0.Coords) (v1162 : BitVec 32) : Prop :=
  (∀ (k0_h2 : k0_cond2 i = 1#1), 8 ∣ (k0_mult145 v1162).toNat) ∧
  (∀ (k0_h2 : k0_cond2 i = 1#1), ∀ a, (k0_off301 v1162) a + S8x128.size a ≤ S131072x128.size a)
theorem k0_mult145_dvd : ∀ (i : grid0.Coords) (v1162 : BitVec 32) (k0_hw73 : k0_chk73 i v1162), ∀ (k0_h2 : k0_cond2 i = 1#1), 8 ∣ (k0_mult145 v1162).toNat := fun i v1162 k0_hw73 k0_h2 => k0_hw73.1 k0_h2
theorem k0_off301_inb : ∀ (i : grid0.Coords) (v1162 : BitVec 32) (k0_hw73 : k0_chk73 i v1162), ∀ (k0_h2 : k0_cond2 i = 1#1), ∀ a, (k0_off301 v1162) a + S8x128.size a ≤ S131072x128.size a := fun i v1162 k0_hw73 k0_h2 => k0_hw73.2 k0_h2

def k0_off302 (i : grid0.Coords) : Fin 3 → Nat :=
  let c0_699 : Index := 0#32
  let c0_700 : Index := 0#32
  let arg1 : BitVec 32 := BitVec.ofNat 32 (i 1).val
  let c2_i32_695 : BitVec 32 := 2#32
  let v1171 : BitVec 32 := Scalar.muli arg1 c2_i32_695
  let c0_i32_696 : BitVec 32 := 0#32
  let v1172 : BitVec 32 := Scalar.addi v1171 c0_i32_696
  let c256_i32_697 : BitVec 32 := 256#32
  let v1173 : BitVec 32 := Scalar.muli v1172 c256_i32_697
  let c72_i32 : BitVec 32 := 72#32
  let v1174 : BitVec 32 := Scalar.addi v1173 c72_i32
  let v1176 : Index := Scalar.indexCast v1174
  ![0, 0, v1176.toNat]
def k0_mult147 (v1177 : BitVec 32) : BitVec 32 :=
  v1177

def k0_mult148 (i : grid0.Coords) : BitVec 32 :=
  let arg1 : BitVec 32 := BitVec.ofNat 32 (i 1).val
  let c2_i32_695 : BitVec 32 := 2#32
  let v1171 : BitVec 32 := Scalar.muli arg1 c2_i32_695
  let c0_i32_696 : BitVec 32 := 0#32
  let v1172 : BitVec 32 := Scalar.addi v1171 c0_i32_696
  let c256_i32_697 : BitVec 32 := 256#32
  let v1173 : BitVec 32 := Scalar.muli v1172 c256_i32_697
  let c72_i32 : BitVec 32 := 72#32
  let v1174 : BitVec 32 := Scalar.addi v1173 c72_i32
  let c8_i32_701 : BitVec 32 := 8#32
  let v1179 : BitVec 32 := Scalar.muli v1174 c8_i32_701
  v1179
def k0_off303 (i : grid0.Coords) : Fin 1 → Nat :=
  let c1_i32_698 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1175 : BitVec 32 := Scalar.subi c1_i32_698 v9
  ![v1175.toNat]
def k0_off304 (i : grid0.Coords) : Fin 3 → Nat :=
  let c1_i32_698 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1175 : BitVec 32 := Scalar.subi c1_i32_698 v9
  let arg1 : BitVec 32 := BitVec.ofNat 32 (i 1).val
  let c2_i32_695 : BitVec 32 := 2#32
  let v1171 : BitVec 32 := Scalar.muli arg1 c2_i32_695
  let c0_i32_696 : BitVec 32 := 0#32
  let v1172 : BitVec 32 := Scalar.addi v1171 c0_i32_696
  let c256_i32_697 : BitVec 32 := 256#32
  let v1173 : BitVec 32 := Scalar.muli v1172 c256_i32_697
  let c72_i32 : BitVec 32 := 72#32
  let v1174 : BitVec 32 := Scalar.addi v1173 c72_i32
  let c8_i32_701 : BitVec 32 := 8#32
  let v1179 : BitVec 32 := Scalar.muli v1174 c8_i32_701
  let v1180 : BitVec 32 := v1179
  let c0_i32_702 : BitVec 32 := 0#32
  ![v1175.toNat, v1180.toNat, 0]
def k0_off305 (v1177 : BitVec 32) : Fin 2 → Nat :=
  let v1178 : BitVec 32 := v1177
  let c0_i32_703 : BitVec 32 := 0#32
  ![v1178.toNat, 0]

def k0_chk74 (i : grid0.Coords) (v1177 : BitVec 32) : Prop :=
  (∀ (k0_h2 : k0_cond2 i = 1#1), 8 ∣ (k0_mult147 v1177).toNat) ∧
  (∀ (k0_h2 : k0_cond2 i = 1#1), ∀ a, (k0_off305 v1177) a + S8x128.size a ≤ S131072x128.size a)
theorem k0_mult147_dvd : ∀ (i : grid0.Coords) (v1177 : BitVec 32) (k0_hw74 : k0_chk74 i v1177), ∀ (k0_h2 : k0_cond2 i = 1#1), 8 ∣ (k0_mult147 v1177).toNat := fun i v1177 k0_hw74 k0_h2 => k0_hw74.1 k0_h2
theorem k0_off305_inb : ∀ (i : grid0.Coords) (v1177 : BitVec 32) (k0_hw74 : k0_chk74 i v1177), ∀ (k0_h2 : k0_cond2 i = 1#1), ∀ a, (k0_off305 v1177) a + S8x128.size a ≤ S131072x128.size a := fun i v1177 k0_hw74 k0_h2 => k0_hw74.2 k0_h2

def k0_off306 (i : grid0.Coords) : Fin 3 → Nat :=
  let c0_708 : Index := 0#32
  let c0_709 : Index := 0#32
  let arg1 : BitVec 32 := BitVec.ofNat 32 (i 1).val
  let c2_i32_704 : BitVec 32 := 2#32
  let v1186 : BitVec 32 := Scalar.muli arg1 c2_i32_704
  let c0_i32_705 : BitVec 32 := 0#32
  let v1187 : BitVec 32 := Scalar.addi v1186 c0_i32_705
  let c256_i32_706 : BitVec 32 := 256#32
  let v1188 : BitVec 32 := Scalar.muli v1187 c256_i32_706
  let c73_i32 : BitVec 32 := 73#32
  let v1189 : BitVec 32 := Scalar.addi v1188 c73_i32
  let v1191 : Index := Scalar.indexCast v1189
  ![0, 0, v1191.toNat]
def k0_mult149 (v1192 : BitVec 32) : BitVec 32 :=
  v1192

def k0_mult150 (i : grid0.Coords) : BitVec 32 :=
  let arg1 : BitVec 32 := BitVec.ofNat 32 (i 1).val
  let c2_i32_704 : BitVec 32 := 2#32
  let v1186 : BitVec 32 := Scalar.muli arg1 c2_i32_704
  let c0_i32_705 : BitVec 32 := 0#32
  let v1187 : BitVec 32 := Scalar.addi v1186 c0_i32_705
  let c256_i32_706 : BitVec 32 := 256#32
  let v1188 : BitVec 32 := Scalar.muli v1187 c256_i32_706
  let c73_i32 : BitVec 32 := 73#32
  let v1189 : BitVec 32 := Scalar.addi v1188 c73_i32
  let c8_i32_710 : BitVec 32 := 8#32
  let v1194 : BitVec 32 := Scalar.muli v1189 c8_i32_710
  v1194
def k0_off307 (i : grid0.Coords) : Fin 1 → Nat :=
  let c1_i32_707 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1190 : BitVec 32 := Scalar.subi c1_i32_707 v9
  ![v1190.toNat]
def k0_off308 (i : grid0.Coords) : Fin 3 → Nat :=
  let c1_i32_707 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1190 : BitVec 32 := Scalar.subi c1_i32_707 v9
  let arg1 : BitVec 32 := BitVec.ofNat 32 (i 1).val
  let c2_i32_704 : BitVec 32 := 2#32
  let v1186 : BitVec 32 := Scalar.muli arg1 c2_i32_704
  let c0_i32_705 : BitVec 32 := 0#32
  let v1187 : BitVec 32 := Scalar.addi v1186 c0_i32_705
  let c256_i32_706 : BitVec 32 := 256#32
  let v1188 : BitVec 32 := Scalar.muli v1187 c256_i32_706
  let c73_i32 : BitVec 32 := 73#32
  let v1189 : BitVec 32 := Scalar.addi v1188 c73_i32
  let c8_i32_710 : BitVec 32 := 8#32
  let v1194 : BitVec 32 := Scalar.muli v1189 c8_i32_710
  let v1195 : BitVec 32 := v1194
  let c0_i32_711 : BitVec 32 := 0#32
  ![v1190.toNat, v1195.toNat, 0]
def k0_off309 (v1192 : BitVec 32) : Fin 2 → Nat :=
  let v1193 : BitVec 32 := v1192
  let c0_i32_712 : BitVec 32 := 0#32
  ![v1193.toNat, 0]

def k0_chk75 (i : grid0.Coords) (v1192 : BitVec 32) : Prop :=
  (∀ (k0_h2 : k0_cond2 i = 1#1), 8 ∣ (k0_mult149 v1192).toNat) ∧
  (∀ (k0_h2 : k0_cond2 i = 1#1), ∀ a, (k0_off309 v1192) a + S8x128.size a ≤ S131072x128.size a)
theorem k0_mult149_dvd : ∀ (i : grid0.Coords) (v1192 : BitVec 32) (k0_hw75 : k0_chk75 i v1192), ∀ (k0_h2 : k0_cond2 i = 1#1), 8 ∣ (k0_mult149 v1192).toNat := fun i v1192 k0_hw75 k0_h2 => k0_hw75.1 k0_h2
theorem k0_off309_inb : ∀ (i : grid0.Coords) (v1192 : BitVec 32) (k0_hw75 : k0_chk75 i v1192), ∀ (k0_h2 : k0_cond2 i = 1#1), ∀ a, (k0_off309 v1192) a + S8x128.size a ≤ S131072x128.size a := fun i v1192 k0_hw75 k0_h2 => k0_hw75.2 k0_h2

def k0_off310 (i : grid0.Coords) : Fin 3 → Nat :=
  let c0_717 : Index := 0#32
  let c0_718 : Index := 0#32
  let arg1 : BitVec 32 := BitVec.ofNat 32 (i 1).val
  let c2_i32_713 : BitVec 32 := 2#32
  let v1201 : BitVec 32 := Scalar.muli arg1 c2_i32_713
  let c0_i32_714 : BitVec 32 := 0#32
  let v1202 : BitVec 32 := Scalar.addi v1201 c0_i32_714
  let c256_i32_715 : BitVec 32 := 256#32
  let v1203 : BitVec 32 := Scalar.muli v1202 c256_i32_715
  let c74_i32 : BitVec 32 := 74#32
  let v1204 : BitVec 32 := Scalar.addi v1203 c74_i32
  let v1206 : Index := Scalar.indexCast v1204
  ![0, 0, v1206.toNat]
def k0_mult151 (v1207 : BitVec 32) : BitVec 32 :=
  v1207

def k0_mult152 (i : grid0.Coords) : BitVec 32 :=
  let arg1 : BitVec 32 := BitVec.ofNat 32 (i 1).val
  let c2_i32_713 : BitVec 32 := 2#32
  let v1201 : BitVec 32 := Scalar.muli arg1 c2_i32_713
  let c0_i32_714 : BitVec 32 := 0#32
  let v1202 : BitVec 32 := Scalar.addi v1201 c0_i32_714
  let c256_i32_715 : BitVec 32 := 256#32
  let v1203 : BitVec 32 := Scalar.muli v1202 c256_i32_715
  let c74_i32 : BitVec 32 := 74#32
  let v1204 : BitVec 32 := Scalar.addi v1203 c74_i32
  let c8_i32_719 : BitVec 32 := 8#32
  let v1209 : BitVec 32 := Scalar.muli v1204 c8_i32_719
  v1209
def k0_off311 (i : grid0.Coords) : Fin 1 → Nat :=
  let c1_i32_716 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1205 : BitVec 32 := Scalar.subi c1_i32_716 v9
  ![v1205.toNat]
def k0_off312 (i : grid0.Coords) : Fin 3 → Nat :=
  let c1_i32_716 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1205 : BitVec 32 := Scalar.subi c1_i32_716 v9
  let arg1 : BitVec 32 := BitVec.ofNat 32 (i 1).val
  let c2_i32_713 : BitVec 32 := 2#32
  let v1201 : BitVec 32 := Scalar.muli arg1 c2_i32_713
  let c0_i32_714 : BitVec 32 := 0#32
  let v1202 : BitVec 32 := Scalar.addi v1201 c0_i32_714
  let c256_i32_715 : BitVec 32 := 256#32
  let v1203 : BitVec 32 := Scalar.muli v1202 c256_i32_715
  let c74_i32 : BitVec 32 := 74#32
  let v1204 : BitVec 32 := Scalar.addi v1203 c74_i32
  let c8_i32_719 : BitVec 32 := 8#32
  let v1209 : BitVec 32 := Scalar.muli v1204 c8_i32_719
  let v1210 : BitVec 32 := v1209
  let c0_i32_720 : BitVec 32 := 0#32
  ![v1205.toNat, v1210.toNat, 0]
def k0_off313 (v1207 : BitVec 32) : Fin 2 → Nat :=
  let v1208 : BitVec 32 := v1207
  let c0_i32_721 : BitVec 32 := 0#32
  ![v1208.toNat, 0]

def k0_chk76 (i : grid0.Coords) (v1207 : BitVec 32) : Prop :=
  (∀ (k0_h2 : k0_cond2 i = 1#1), 8 ∣ (k0_mult151 v1207).toNat) ∧
  (∀ (k0_h2 : k0_cond2 i = 1#1), ∀ a, (k0_off313 v1207) a + S8x128.size a ≤ S131072x128.size a)
theorem k0_mult151_dvd : ∀ (i : grid0.Coords) (v1207 : BitVec 32) (k0_hw76 : k0_chk76 i v1207), ∀ (k0_h2 : k0_cond2 i = 1#1), 8 ∣ (k0_mult151 v1207).toNat := fun i v1207 k0_hw76 k0_h2 => k0_hw76.1 k0_h2
theorem k0_off313_inb : ∀ (i : grid0.Coords) (v1207 : BitVec 32) (k0_hw76 : k0_chk76 i v1207), ∀ (k0_h2 : k0_cond2 i = 1#1), ∀ a, (k0_off313 v1207) a + S8x128.size a ≤ S131072x128.size a := fun i v1207 k0_hw76 k0_h2 => k0_hw76.2 k0_h2

def k0_off314 (i : grid0.Coords) : Fin 3 → Nat :=
  let c0_726 : Index := 0#32
  let c0_727 : Index := 0#32
  let arg1 : BitVec 32 := BitVec.ofNat 32 (i 1).val
  let c2_i32_722 : BitVec 32 := 2#32
  let v1216 : BitVec 32 := Scalar.muli arg1 c2_i32_722
  let c0_i32_723 : BitVec 32 := 0#32
  let v1217 : BitVec 32 := Scalar.addi v1216 c0_i32_723
  let c256_i32_724 : BitVec 32 := 256#32
  let v1218 : BitVec 32 := Scalar.muli v1217 c256_i32_724
  let c75_i32 : BitVec 32 := 75#32
  let v1219 : BitVec 32 := Scalar.addi v1218 c75_i32
  let v1221 : Index := Scalar.indexCast v1219
  ![0, 0, v1221.toNat]
def k0_mult153 (v1222 : BitVec 32) : BitVec 32 :=
  v1222

def k0_mult154 (i : grid0.Coords) : BitVec 32 :=
  let arg1 : BitVec 32 := BitVec.ofNat 32 (i 1).val
  let c2_i32_722 : BitVec 32 := 2#32
  let v1216 : BitVec 32 := Scalar.muli arg1 c2_i32_722
  let c0_i32_723 : BitVec 32 := 0#32
  let v1217 : BitVec 32 := Scalar.addi v1216 c0_i32_723
  let c256_i32_724 : BitVec 32 := 256#32
  let v1218 : BitVec 32 := Scalar.muli v1217 c256_i32_724
  let c75_i32 : BitVec 32 := 75#32
  let v1219 : BitVec 32 := Scalar.addi v1218 c75_i32
  let c8_i32_728 : BitVec 32 := 8#32
  let v1224 : BitVec 32 := Scalar.muli v1219 c8_i32_728
  v1224
def k0_off315 (i : grid0.Coords) : Fin 1 → Nat :=
  let c1_i32_725 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1220 : BitVec 32 := Scalar.subi c1_i32_725 v9
  ![v1220.toNat]
def k0_off316 (i : grid0.Coords) : Fin 3 → Nat :=
  let c1_i32_725 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1220 : BitVec 32 := Scalar.subi c1_i32_725 v9
  let arg1 : BitVec 32 := BitVec.ofNat 32 (i 1).val
  let c2_i32_722 : BitVec 32 := 2#32
  let v1216 : BitVec 32 := Scalar.muli arg1 c2_i32_722
  let c0_i32_723 : BitVec 32 := 0#32
  let v1217 : BitVec 32 := Scalar.addi v1216 c0_i32_723
  let c256_i32_724 : BitVec 32 := 256#32
  let v1218 : BitVec 32 := Scalar.muli v1217 c256_i32_724
  let c75_i32 : BitVec 32 := 75#32
  let v1219 : BitVec 32 := Scalar.addi v1218 c75_i32
  let c8_i32_728 : BitVec 32 := 8#32
  let v1224 : BitVec 32 := Scalar.muli v1219 c8_i32_728
  let v1225 : BitVec 32 := v1224
  let c0_i32_729 : BitVec 32 := 0#32
  ![v1220.toNat, v1225.toNat, 0]
def k0_off317 (v1222 : BitVec 32) : Fin 2 → Nat :=
  let v1223 : BitVec 32 := v1222
  let c0_i32_730 : BitVec 32 := 0#32
  ![v1223.toNat, 0]

def k0_chk77 (i : grid0.Coords) (v1222 : BitVec 32) : Prop :=
  (∀ (k0_h2 : k0_cond2 i = 1#1), 8 ∣ (k0_mult153 v1222).toNat) ∧
  (∀ (k0_h2 : k0_cond2 i = 1#1), ∀ a, (k0_off317 v1222) a + S8x128.size a ≤ S131072x128.size a)
theorem k0_mult153_dvd : ∀ (i : grid0.Coords) (v1222 : BitVec 32) (k0_hw77 : k0_chk77 i v1222), ∀ (k0_h2 : k0_cond2 i = 1#1), 8 ∣ (k0_mult153 v1222).toNat := fun i v1222 k0_hw77 k0_h2 => k0_hw77.1 k0_h2
theorem k0_off317_inb : ∀ (i : grid0.Coords) (v1222 : BitVec 32) (k0_hw77 : k0_chk77 i v1222), ∀ (k0_h2 : k0_cond2 i = 1#1), ∀ a, (k0_off317 v1222) a + S8x128.size a ≤ S131072x128.size a := fun i v1222 k0_hw77 k0_h2 => k0_hw77.2 k0_h2

def k0_off318 (i : grid0.Coords) : Fin 3 → Nat :=
  let c0_735 : Index := 0#32
  let c0_736 : Index := 0#32
  let arg1 : BitVec 32 := BitVec.ofNat 32 (i 1).val
  let c2_i32_731 : BitVec 32 := 2#32
  let v1231 : BitVec 32 := Scalar.muli arg1 c2_i32_731
  let c0_i32_732 : BitVec 32 := 0#32
  let v1232 : BitVec 32 := Scalar.addi v1231 c0_i32_732
  let c256_i32_733 : BitVec 32 := 256#32
  let v1233 : BitVec 32 := Scalar.muli v1232 c256_i32_733
  let c76_i32 : BitVec 32 := 76#32
  let v1234 : BitVec 32 := Scalar.addi v1233 c76_i32
  let v1236 : Index := Scalar.indexCast v1234
  ![0, 0, v1236.toNat]
def k0_mult155 (v1237 : BitVec 32) : BitVec 32 :=
  v1237

def k0_mult156 (i : grid0.Coords) : BitVec 32 :=
  let arg1 : BitVec 32 := BitVec.ofNat 32 (i 1).val
  let c2_i32_731 : BitVec 32 := 2#32
  let v1231 : BitVec 32 := Scalar.muli arg1 c2_i32_731
  let c0_i32_732 : BitVec 32 := 0#32
  let v1232 : BitVec 32 := Scalar.addi v1231 c0_i32_732
  let c256_i32_733 : BitVec 32 := 256#32
  let v1233 : BitVec 32 := Scalar.muli v1232 c256_i32_733
  let c76_i32 : BitVec 32 := 76#32
  let v1234 : BitVec 32 := Scalar.addi v1233 c76_i32
  let c8_i32_737 : BitVec 32 := 8#32
  let v1239 : BitVec 32 := Scalar.muli v1234 c8_i32_737
  v1239
def k0_off319 (i : grid0.Coords) : Fin 1 → Nat :=
  let c1_i32_734 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1235 : BitVec 32 := Scalar.subi c1_i32_734 v9
  ![v1235.toNat]
def k0_off320 (i : grid0.Coords) : Fin 3 → Nat :=
  let c1_i32_734 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1235 : BitVec 32 := Scalar.subi c1_i32_734 v9
  let arg1 : BitVec 32 := BitVec.ofNat 32 (i 1).val
  let c2_i32_731 : BitVec 32 := 2#32
  let v1231 : BitVec 32 := Scalar.muli arg1 c2_i32_731
  let c0_i32_732 : BitVec 32 := 0#32
  let v1232 : BitVec 32 := Scalar.addi v1231 c0_i32_732
  let c256_i32_733 : BitVec 32 := 256#32
  let v1233 : BitVec 32 := Scalar.muli v1232 c256_i32_733
  let c76_i32 : BitVec 32 := 76#32
  let v1234 : BitVec 32 := Scalar.addi v1233 c76_i32
  let c8_i32_737 : BitVec 32 := 8#32
  let v1239 : BitVec 32 := Scalar.muli v1234 c8_i32_737
  let v1240 : BitVec 32 := v1239
  let c0_i32_738 : BitVec 32 := 0#32
  ![v1235.toNat, v1240.toNat, 0]
def k0_off321 (v1237 : BitVec 32) : Fin 2 → Nat :=
  let v1238 : BitVec 32 := v1237
  let c0_i32_739 : BitVec 32 := 0#32
  ![v1238.toNat, 0]

def k0_chk78 (i : grid0.Coords) (v1237 : BitVec 32) : Prop :=
  (∀ (k0_h2 : k0_cond2 i = 1#1), 8 ∣ (k0_mult155 v1237).toNat) ∧
  (∀ (k0_h2 : k0_cond2 i = 1#1), ∀ a, (k0_off321 v1237) a + S8x128.size a ≤ S131072x128.size a)
theorem k0_mult155_dvd : ∀ (i : grid0.Coords) (v1237 : BitVec 32) (k0_hw78 : k0_chk78 i v1237), ∀ (k0_h2 : k0_cond2 i = 1#1), 8 ∣ (k0_mult155 v1237).toNat := fun i v1237 k0_hw78 k0_h2 => k0_hw78.1 k0_h2
theorem k0_off321_inb : ∀ (i : grid0.Coords) (v1237 : BitVec 32) (k0_hw78 : k0_chk78 i v1237), ∀ (k0_h2 : k0_cond2 i = 1#1), ∀ a, (k0_off321 v1237) a + S8x128.size a ≤ S131072x128.size a := fun i v1237 k0_hw78 k0_h2 => k0_hw78.2 k0_h2

def k0_off322 (i : grid0.Coords) : Fin 3 → Nat :=
  let c0_744 : Index := 0#32
  let c0_745 : Index := 0#32
  let arg1 : BitVec 32 := BitVec.ofNat 32 (i 1).val
  let c2_i32_740 : BitVec 32 := 2#32
  let v1246 : BitVec 32 := Scalar.muli arg1 c2_i32_740
  let c0_i32_741 : BitVec 32 := 0#32
  let v1247 : BitVec 32 := Scalar.addi v1246 c0_i32_741
  let c256_i32_742 : BitVec 32 := 256#32
  let v1248 : BitVec 32 := Scalar.muli v1247 c256_i32_742
  let c77_i32 : BitVec 32 := 77#32
  let v1249 : BitVec 32 := Scalar.addi v1248 c77_i32
  let v1251 : Index := Scalar.indexCast v1249
  ![0, 0, v1251.toNat]
def k0_mult157 (v1252 : BitVec 32) : BitVec 32 :=
  v1252

def k0_mult158 (i : grid0.Coords) : BitVec 32 :=
  let arg1 : BitVec 32 := BitVec.ofNat 32 (i 1).val
  let c2_i32_740 : BitVec 32 := 2#32
  let v1246 : BitVec 32 := Scalar.muli arg1 c2_i32_740
  let c0_i32_741 : BitVec 32 := 0#32
  let v1247 : BitVec 32 := Scalar.addi v1246 c0_i32_741
  let c256_i32_742 : BitVec 32 := 256#32
  let v1248 : BitVec 32 := Scalar.muli v1247 c256_i32_742
  let c77_i32 : BitVec 32 := 77#32
  let v1249 : BitVec 32 := Scalar.addi v1248 c77_i32
  let c8_i32_746 : BitVec 32 := 8#32
  let v1254 : BitVec 32 := Scalar.muli v1249 c8_i32_746
  v1254
def k0_off323 (i : grid0.Coords) : Fin 1 → Nat :=
  let c1_i32_743 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1250 : BitVec 32 := Scalar.subi c1_i32_743 v9
  ![v1250.toNat]
def k0_off324 (i : grid0.Coords) : Fin 3 → Nat :=
  let c1_i32_743 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1250 : BitVec 32 := Scalar.subi c1_i32_743 v9
  let arg1 : BitVec 32 := BitVec.ofNat 32 (i 1).val
  let c2_i32_740 : BitVec 32 := 2#32
  let v1246 : BitVec 32 := Scalar.muli arg1 c2_i32_740
  let c0_i32_741 : BitVec 32 := 0#32
  let v1247 : BitVec 32 := Scalar.addi v1246 c0_i32_741
  let c256_i32_742 : BitVec 32 := 256#32
  let v1248 : BitVec 32 := Scalar.muli v1247 c256_i32_742
  let c77_i32 : BitVec 32 := 77#32
  let v1249 : BitVec 32 := Scalar.addi v1248 c77_i32
  let c8_i32_746 : BitVec 32 := 8#32
  let v1254 : BitVec 32 := Scalar.muli v1249 c8_i32_746
  let v1255 : BitVec 32 := v1254
  let c0_i32_747 : BitVec 32 := 0#32
  ![v1250.toNat, v1255.toNat, 0]
def k0_off325 (v1252 : BitVec 32) : Fin 2 → Nat :=
  let v1253 : BitVec 32 := v1252
  let c0_i32_748 : BitVec 32 := 0#32
  ![v1253.toNat, 0]

def k0_chk79 (i : grid0.Coords) (v1252 : BitVec 32) : Prop :=
  (∀ (k0_h2 : k0_cond2 i = 1#1), 8 ∣ (k0_mult157 v1252).toNat) ∧
  (∀ (k0_h2 : k0_cond2 i = 1#1), ∀ a, (k0_off325 v1252) a + S8x128.size a ≤ S131072x128.size a)
theorem k0_mult157_dvd : ∀ (i : grid0.Coords) (v1252 : BitVec 32) (k0_hw79 : k0_chk79 i v1252), ∀ (k0_h2 : k0_cond2 i = 1#1), 8 ∣ (k0_mult157 v1252).toNat := fun i v1252 k0_hw79 k0_h2 => k0_hw79.1 k0_h2
theorem k0_off325_inb : ∀ (i : grid0.Coords) (v1252 : BitVec 32) (k0_hw79 : k0_chk79 i v1252), ∀ (k0_h2 : k0_cond2 i = 1#1), ∀ a, (k0_off325 v1252) a + S8x128.size a ≤ S131072x128.size a := fun i v1252 k0_hw79 k0_h2 => k0_hw79.2 k0_h2

def k0_off326 (i : grid0.Coords) : Fin 3 → Nat :=
  let c0_753 : Index := 0#32
  let c0_754 : Index := 0#32
  let arg1 : BitVec 32 := BitVec.ofNat 32 (i 1).val
  let c2_i32_749 : BitVec 32 := 2#32
  let v1261 : BitVec 32 := Scalar.muli arg1 c2_i32_749
  let c0_i32_750 : BitVec 32 := 0#32
  let v1262 : BitVec 32 := Scalar.addi v1261 c0_i32_750
  let c256_i32_751 : BitVec 32 := 256#32
  let v1263 : BitVec 32 := Scalar.muli v1262 c256_i32_751
  let c78_i32 : BitVec 32 := 78#32
  let v1264 : BitVec 32 := Scalar.addi v1263 c78_i32
  let v1266 : Index := Scalar.indexCast v1264
  ![0, 0, v1266.toNat]
def k0_mult159 (v1267 : BitVec 32) : BitVec 32 :=
  v1267

def k0_mult160 (i : grid0.Coords) : BitVec 32 :=
  let arg1 : BitVec 32 := BitVec.ofNat 32 (i 1).val
  let c2_i32_749 : BitVec 32 := 2#32
  let v1261 : BitVec 32 := Scalar.muli arg1 c2_i32_749
  let c0_i32_750 : BitVec 32 := 0#32
  let v1262 : BitVec 32 := Scalar.addi v1261 c0_i32_750
  let c256_i32_751 : BitVec 32 := 256#32
  let v1263 : BitVec 32 := Scalar.muli v1262 c256_i32_751
  let c78_i32 : BitVec 32 := 78#32
  let v1264 : BitVec 32 := Scalar.addi v1263 c78_i32
  let c8_i32_755 : BitVec 32 := 8#32
  let v1269 : BitVec 32 := Scalar.muli v1264 c8_i32_755
  v1269
def k0_off327 (i : grid0.Coords) : Fin 1 → Nat :=
  let c1_i32_752 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1265 : BitVec 32 := Scalar.subi c1_i32_752 v9
  ![v1265.toNat]
def k0_off328 (i : grid0.Coords) : Fin 3 → Nat :=
  let c1_i32_752 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1265 : BitVec 32 := Scalar.subi c1_i32_752 v9
  let arg1 : BitVec 32 := BitVec.ofNat 32 (i 1).val
  let c2_i32_749 : BitVec 32 := 2#32
  let v1261 : BitVec 32 := Scalar.muli arg1 c2_i32_749
  let c0_i32_750 : BitVec 32 := 0#32
  let v1262 : BitVec 32 := Scalar.addi v1261 c0_i32_750
  let c256_i32_751 : BitVec 32 := 256#32
  let v1263 : BitVec 32 := Scalar.muli v1262 c256_i32_751
  let c78_i32 : BitVec 32 := 78#32
  let v1264 : BitVec 32 := Scalar.addi v1263 c78_i32
  let c8_i32_755 : BitVec 32 := 8#32
  let v1269 : BitVec 32 := Scalar.muli v1264 c8_i32_755
  let v1270 : BitVec 32 := v1269
  let c0_i32_756 : BitVec 32 := 0#32
  ![v1265.toNat, v1270.toNat, 0]
def k0_off329 (v1267 : BitVec 32) : Fin 2 → Nat :=
  let v1268 : BitVec 32 := v1267
  let c0_i32_757 : BitVec 32 := 0#32
  ![v1268.toNat, 0]

def k0_chk80 (i : grid0.Coords) (v1267 : BitVec 32) : Prop :=
  (∀ (k0_h2 : k0_cond2 i = 1#1), 8 ∣ (k0_mult159 v1267).toNat) ∧
  (∀ (k0_h2 : k0_cond2 i = 1#1), ∀ a, (k0_off329 v1267) a + S8x128.size a ≤ S131072x128.size a)
theorem k0_mult159_dvd : ∀ (i : grid0.Coords) (v1267 : BitVec 32) (k0_hw80 : k0_chk80 i v1267), ∀ (k0_h2 : k0_cond2 i = 1#1), 8 ∣ (k0_mult159 v1267).toNat := fun i v1267 k0_hw80 k0_h2 => k0_hw80.1 k0_h2
theorem k0_off329_inb : ∀ (i : grid0.Coords) (v1267 : BitVec 32) (k0_hw80 : k0_chk80 i v1267), ∀ (k0_h2 : k0_cond2 i = 1#1), ∀ a, (k0_off329 v1267) a + S8x128.size a ≤ S131072x128.size a := fun i v1267 k0_hw80 k0_h2 => k0_hw80.2 k0_h2

def k0_off330 (i : grid0.Coords) : Fin 3 → Nat :=
  let c0_762 : Index := 0#32
  let c0_763 : Index := 0#32
  let arg1 : BitVec 32 := BitVec.ofNat 32 (i 1).val
  let c2_i32_758 : BitVec 32 := 2#32
  let v1276 : BitVec 32 := Scalar.muli arg1 c2_i32_758
  let c0_i32_759 : BitVec 32 := 0#32
  let v1277 : BitVec 32 := Scalar.addi v1276 c0_i32_759
  let c256_i32_760 : BitVec 32 := 256#32
  let v1278 : BitVec 32 := Scalar.muli v1277 c256_i32_760
  let c79_i32 : BitVec 32 := 79#32
  let v1279 : BitVec 32 := Scalar.addi v1278 c79_i32
  let v1281 : Index := Scalar.indexCast v1279
  ![0, 0, v1281.toNat]
def k0_mult161 (v1282 : BitVec 32) : BitVec 32 :=
  v1282

def k0_mult162 (i : grid0.Coords) : BitVec 32 :=
  let arg1 : BitVec 32 := BitVec.ofNat 32 (i 1).val
  let c2_i32_758 : BitVec 32 := 2#32
  let v1276 : BitVec 32 := Scalar.muli arg1 c2_i32_758
  let c0_i32_759 : BitVec 32 := 0#32
  let v1277 : BitVec 32 := Scalar.addi v1276 c0_i32_759
  let c256_i32_760 : BitVec 32 := 256#32
  let v1278 : BitVec 32 := Scalar.muli v1277 c256_i32_760
  let c79_i32 : BitVec 32 := 79#32
  let v1279 : BitVec 32 := Scalar.addi v1278 c79_i32
  let c8_i32_764 : BitVec 32 := 8#32
  let v1284 : BitVec 32 := Scalar.muli v1279 c8_i32_764
  v1284
def k0_off331 (i : grid0.Coords) : Fin 1 → Nat :=
  let c1_i32_761 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1280 : BitVec 32 := Scalar.subi c1_i32_761 v9
  ![v1280.toNat]
def k0_off332 (i : grid0.Coords) : Fin 3 → Nat :=
  let c1_i32_761 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1280 : BitVec 32 := Scalar.subi c1_i32_761 v9
  let arg1 : BitVec 32 := BitVec.ofNat 32 (i 1).val
  let c2_i32_758 : BitVec 32 := 2#32
  let v1276 : BitVec 32 := Scalar.muli arg1 c2_i32_758
  let c0_i32_759 : BitVec 32 := 0#32
  let v1277 : BitVec 32 := Scalar.addi v1276 c0_i32_759
  let c256_i32_760 : BitVec 32 := 256#32
  let v1278 : BitVec 32 := Scalar.muli v1277 c256_i32_760
  let c79_i32 : BitVec 32 := 79#32
  let v1279 : BitVec 32 := Scalar.addi v1278 c79_i32
  let c8_i32_764 : BitVec 32 := 8#32
  let v1284 : BitVec 32 := Scalar.muli v1279 c8_i32_764
  let v1285 : BitVec 32 := v1284
  let c0_i32_765 : BitVec 32 := 0#32
  ![v1280.toNat, v1285.toNat, 0]
def k0_off333 (v1282 : BitVec 32) : Fin 2 → Nat :=
  let v1283 : BitVec 32 := v1282
  let c0_i32_766 : BitVec 32 := 0#32
  ![v1283.toNat, 0]

def k0_chk81 (i : grid0.Coords) (v1282 : BitVec 32) : Prop :=
  (∀ (k0_h2 : k0_cond2 i = 1#1), 8 ∣ (k0_mult161 v1282).toNat) ∧
  (∀ (k0_h2 : k0_cond2 i = 1#1), ∀ a, (k0_off333 v1282) a + S8x128.size a ≤ S131072x128.size a)
theorem k0_mult161_dvd : ∀ (i : grid0.Coords) (v1282 : BitVec 32) (k0_hw81 : k0_chk81 i v1282), ∀ (k0_h2 : k0_cond2 i = 1#1), 8 ∣ (k0_mult161 v1282).toNat := fun i v1282 k0_hw81 k0_h2 => k0_hw81.1 k0_h2
theorem k0_off333_inb : ∀ (i : grid0.Coords) (v1282 : BitVec 32) (k0_hw81 : k0_chk81 i v1282), ∀ (k0_h2 : k0_cond2 i = 1#1), ∀ a, (k0_off333 v1282) a + S8x128.size a ≤ S131072x128.size a := fun i v1282 k0_hw81 k0_h2 => k0_hw81.2 k0_h2

def k0_off334 (i : grid0.Coords) : Fin 3 → Nat :=
  let c0_771 : Index := 0#32
  let c0_772 : Index := 0#32
  let arg1 : BitVec 32 := BitVec.ofNat 32 (i 1).val
  let c2_i32_767 : BitVec 32 := 2#32
  let v1291 : BitVec 32 := Scalar.muli arg1 c2_i32_767
  let c0_i32_768 : BitVec 32 := 0#32
  let v1292 : BitVec 32 := Scalar.addi v1291 c0_i32_768
  let c256_i32_769 : BitVec 32 := 256#32
  let v1293 : BitVec 32 := Scalar.muli v1292 c256_i32_769
  let c80_i32 : BitVec 32 := 80#32
  let v1294 : BitVec 32 := Scalar.addi v1293 c80_i32
  let v1296 : Index := Scalar.indexCast v1294
  ![0, 0, v1296.toNat]
def k0_mult163 (v1297 : BitVec 32) : BitVec 32 :=
  v1297

def k0_mult164 (i : grid0.Coords) : BitVec 32 :=
  let arg1 : BitVec 32 := BitVec.ofNat 32 (i 1).val
  let c2_i32_767 : BitVec 32 := 2#32
  let v1291 : BitVec 32 := Scalar.muli arg1 c2_i32_767
  let c0_i32_768 : BitVec 32 := 0#32
  let v1292 : BitVec 32 := Scalar.addi v1291 c0_i32_768
  let c256_i32_769 : BitVec 32 := 256#32
  let v1293 : BitVec 32 := Scalar.muli v1292 c256_i32_769
  let c80_i32 : BitVec 32 := 80#32
  let v1294 : BitVec 32 := Scalar.addi v1293 c80_i32
  let c8_i32_773 : BitVec 32 := 8#32
  let v1299 : BitVec 32 := Scalar.muli v1294 c8_i32_773
  v1299
def k0_off335 (i : grid0.Coords) : Fin 1 → Nat :=
  let c1_i32_770 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1295 : BitVec 32 := Scalar.subi c1_i32_770 v9
  ![v1295.toNat]
def k0_off336 (i : grid0.Coords) : Fin 3 → Nat :=
  let c1_i32_770 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1295 : BitVec 32 := Scalar.subi c1_i32_770 v9
  let arg1 : BitVec 32 := BitVec.ofNat 32 (i 1).val
  let c2_i32_767 : BitVec 32 := 2#32
  let v1291 : BitVec 32 := Scalar.muli arg1 c2_i32_767
  let c0_i32_768 : BitVec 32 := 0#32
  let v1292 : BitVec 32 := Scalar.addi v1291 c0_i32_768
  let c256_i32_769 : BitVec 32 := 256#32
  let v1293 : BitVec 32 := Scalar.muli v1292 c256_i32_769
  let c80_i32 : BitVec 32 := 80#32
  let v1294 : BitVec 32 := Scalar.addi v1293 c80_i32
  let c8_i32_773 : BitVec 32 := 8#32
  let v1299 : BitVec 32 := Scalar.muli v1294 c8_i32_773
  let v1300 : BitVec 32 := v1299
  let c0_i32_774 : BitVec 32 := 0#32
  ![v1295.toNat, v1300.toNat, 0]
def k0_off337 (v1297 : BitVec 32) : Fin 2 → Nat :=
  let v1298 : BitVec 32 := v1297
  let c0_i32_775 : BitVec 32 := 0#32
  ![v1298.toNat, 0]

def k0_chk82 (i : grid0.Coords) (v1297 : BitVec 32) : Prop :=
  (∀ (k0_h2 : k0_cond2 i = 1#1), 8 ∣ (k0_mult163 v1297).toNat) ∧
  (∀ (k0_h2 : k0_cond2 i = 1#1), ∀ a, (k0_off337 v1297) a + S8x128.size a ≤ S131072x128.size a)
theorem k0_mult163_dvd : ∀ (i : grid0.Coords) (v1297 : BitVec 32) (k0_hw82 : k0_chk82 i v1297), ∀ (k0_h2 : k0_cond2 i = 1#1), 8 ∣ (k0_mult163 v1297).toNat := fun i v1297 k0_hw82 k0_h2 => k0_hw82.1 k0_h2
theorem k0_off337_inb : ∀ (i : grid0.Coords) (v1297 : BitVec 32) (k0_hw82 : k0_chk82 i v1297), ∀ (k0_h2 : k0_cond2 i = 1#1), ∀ a, (k0_off337 v1297) a + S8x128.size a ≤ S131072x128.size a := fun i v1297 k0_hw82 k0_h2 => k0_hw82.2 k0_h2

def k0_off338 (i : grid0.Coords) : Fin 3 → Nat :=
  let c0_780 : Index := 0#32
  let c0_781 : Index := 0#32
  let arg1 : BitVec 32 := BitVec.ofNat 32 (i 1).val
  let c2_i32_776 : BitVec 32 := 2#32
  let v1306 : BitVec 32 := Scalar.muli arg1 c2_i32_776
  let c0_i32_777 : BitVec 32 := 0#32
  let v1307 : BitVec 32 := Scalar.addi v1306 c0_i32_777
  let c256_i32_778 : BitVec 32 := 256#32
  let v1308 : BitVec 32 := Scalar.muli v1307 c256_i32_778
  let c81_i32 : BitVec 32 := 81#32
  let v1309 : BitVec 32 := Scalar.addi v1308 c81_i32
  let v1311 : Index := Scalar.indexCast v1309
  ![0, 0, v1311.toNat]
def k0_mult165 (v1312 : BitVec 32) : BitVec 32 :=
  v1312

def k0_mult166 (i : grid0.Coords) : BitVec 32 :=
  let arg1 : BitVec 32 := BitVec.ofNat 32 (i 1).val
  let c2_i32_776 : BitVec 32 := 2#32
  let v1306 : BitVec 32 := Scalar.muli arg1 c2_i32_776
  let c0_i32_777 : BitVec 32 := 0#32
  let v1307 : BitVec 32 := Scalar.addi v1306 c0_i32_777
  let c256_i32_778 : BitVec 32 := 256#32
  let v1308 : BitVec 32 := Scalar.muli v1307 c256_i32_778
  let c81_i32 : BitVec 32 := 81#32
  let v1309 : BitVec 32 := Scalar.addi v1308 c81_i32
  let c8_i32_782 : BitVec 32 := 8#32
  let v1314 : BitVec 32 := Scalar.muli v1309 c8_i32_782
  v1314
def k0_off339 (i : grid0.Coords) : Fin 1 → Nat :=
  let c1_i32_779 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1310 : BitVec 32 := Scalar.subi c1_i32_779 v9
  ![v1310.toNat]
def k0_off340 (i : grid0.Coords) : Fin 3 → Nat :=
  let c1_i32_779 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1310 : BitVec 32 := Scalar.subi c1_i32_779 v9
  let arg1 : BitVec 32 := BitVec.ofNat 32 (i 1).val
  let c2_i32_776 : BitVec 32 := 2#32
  let v1306 : BitVec 32 := Scalar.muli arg1 c2_i32_776
  let c0_i32_777 : BitVec 32 := 0#32
  let v1307 : BitVec 32 := Scalar.addi v1306 c0_i32_777
  let c256_i32_778 : BitVec 32 := 256#32
  let v1308 : BitVec 32 := Scalar.muli v1307 c256_i32_778
  let c81_i32 : BitVec 32 := 81#32
  let v1309 : BitVec 32 := Scalar.addi v1308 c81_i32
  let c8_i32_782 : BitVec 32 := 8#32
  let v1314 : BitVec 32 := Scalar.muli v1309 c8_i32_782
  let v1315 : BitVec 32 := v1314
  let c0_i32_783 : BitVec 32 := 0#32
  ![v1310.toNat, v1315.toNat, 0]
def k0_off341 (v1312 : BitVec 32) : Fin 2 → Nat :=
  let v1313 : BitVec 32 := v1312
  let c0_i32_784 : BitVec 32 := 0#32
  ![v1313.toNat, 0]

def k0_chk83 (i : grid0.Coords) (v1312 : BitVec 32) : Prop :=
  (∀ (k0_h2 : k0_cond2 i = 1#1), 8 ∣ (k0_mult165 v1312).toNat) ∧
  (∀ (k0_h2 : k0_cond2 i = 1#1), ∀ a, (k0_off341 v1312) a + S8x128.size a ≤ S131072x128.size a)
theorem k0_mult165_dvd : ∀ (i : grid0.Coords) (v1312 : BitVec 32) (k0_hw83 : k0_chk83 i v1312), ∀ (k0_h2 : k0_cond2 i = 1#1), 8 ∣ (k0_mult165 v1312).toNat := fun i v1312 k0_hw83 k0_h2 => k0_hw83.1 k0_h2
theorem k0_off341_inb : ∀ (i : grid0.Coords) (v1312 : BitVec 32) (k0_hw83 : k0_chk83 i v1312), ∀ (k0_h2 : k0_cond2 i = 1#1), ∀ a, (k0_off341 v1312) a + S8x128.size a ≤ S131072x128.size a := fun i v1312 k0_hw83 k0_h2 => k0_hw83.2 k0_h2

def k0_off342 (i : grid0.Coords) : Fin 3 → Nat :=
  let c0_789 : Index := 0#32
  let c0_790 : Index := 0#32
  let arg1 : BitVec 32 := BitVec.ofNat 32 (i 1).val
  let c2_i32_785 : BitVec 32 := 2#32
  let v1321 : BitVec 32 := Scalar.muli arg1 c2_i32_785
  let c0_i32_786 : BitVec 32 := 0#32
  let v1322 : BitVec 32 := Scalar.addi v1321 c0_i32_786
  let c256_i32_787 : BitVec 32 := 256#32
  let v1323 : BitVec 32 := Scalar.muli v1322 c256_i32_787
  let c82_i32 : BitVec 32 := 82#32
  let v1324 : BitVec 32 := Scalar.addi v1323 c82_i32
  let v1326 : Index := Scalar.indexCast v1324
  ![0, 0, v1326.toNat]
def k0_mult167 (v1327 : BitVec 32) : BitVec 32 :=
  v1327

def k0_mult168 (i : grid0.Coords) : BitVec 32 :=
  let arg1 : BitVec 32 := BitVec.ofNat 32 (i 1).val
  let c2_i32_785 : BitVec 32 := 2#32
  let v1321 : BitVec 32 := Scalar.muli arg1 c2_i32_785
  let c0_i32_786 : BitVec 32 := 0#32
  let v1322 : BitVec 32 := Scalar.addi v1321 c0_i32_786
  let c256_i32_787 : BitVec 32 := 256#32
  let v1323 : BitVec 32 := Scalar.muli v1322 c256_i32_787
  let c82_i32 : BitVec 32 := 82#32
  let v1324 : BitVec 32 := Scalar.addi v1323 c82_i32
  let c8_i32_791 : BitVec 32 := 8#32
  let v1329 : BitVec 32 := Scalar.muli v1324 c8_i32_791
  v1329
def k0_off343 (i : grid0.Coords) : Fin 1 → Nat :=
  let c1_i32_788 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1325 : BitVec 32 := Scalar.subi c1_i32_788 v9
  ![v1325.toNat]
def k0_off344 (i : grid0.Coords) : Fin 3 → Nat :=
  let c1_i32_788 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1325 : BitVec 32 := Scalar.subi c1_i32_788 v9
  let arg1 : BitVec 32 := BitVec.ofNat 32 (i 1).val
  let c2_i32_785 : BitVec 32 := 2#32
  let v1321 : BitVec 32 := Scalar.muli arg1 c2_i32_785
  let c0_i32_786 : BitVec 32 := 0#32
  let v1322 : BitVec 32 := Scalar.addi v1321 c0_i32_786
  let c256_i32_787 : BitVec 32 := 256#32
  let v1323 : BitVec 32 := Scalar.muli v1322 c256_i32_787
  let c82_i32 : BitVec 32 := 82#32
  let v1324 : BitVec 32 := Scalar.addi v1323 c82_i32
  let c8_i32_791 : BitVec 32 := 8#32
  let v1329 : BitVec 32 := Scalar.muli v1324 c8_i32_791
  let v1330 : BitVec 32 := v1329
  let c0_i32_792 : BitVec 32 := 0#32
  ![v1325.toNat, v1330.toNat, 0]
def k0_off345 (v1327 : BitVec 32) : Fin 2 → Nat :=
  let v1328 : BitVec 32 := v1327
  let c0_i32_793 : BitVec 32 := 0#32
  ![v1328.toNat, 0]

def k0_chk84 (i : grid0.Coords) (v1327 : BitVec 32) : Prop :=
  (∀ (k0_h2 : k0_cond2 i = 1#1), 8 ∣ (k0_mult167 v1327).toNat) ∧
  (∀ (k0_h2 : k0_cond2 i = 1#1), ∀ a, (k0_off345 v1327) a + S8x128.size a ≤ S131072x128.size a)
theorem k0_mult167_dvd : ∀ (i : grid0.Coords) (v1327 : BitVec 32) (k0_hw84 : k0_chk84 i v1327), ∀ (k0_h2 : k0_cond2 i = 1#1), 8 ∣ (k0_mult167 v1327).toNat := fun i v1327 k0_hw84 k0_h2 => k0_hw84.1 k0_h2
theorem k0_off345_inb : ∀ (i : grid0.Coords) (v1327 : BitVec 32) (k0_hw84 : k0_chk84 i v1327), ∀ (k0_h2 : k0_cond2 i = 1#1), ∀ a, (k0_off345 v1327) a + S8x128.size a ≤ S131072x128.size a := fun i v1327 k0_hw84 k0_h2 => k0_hw84.2 k0_h2

def k0_off346 (i : grid0.Coords) : Fin 3 → Nat :=
  let c0_798 : Index := 0#32
  let c0_799 : Index := 0#32
  let arg1 : BitVec 32 := BitVec.ofNat 32 (i 1).val
  let c2_i32_794 : BitVec 32 := 2#32
  let v1336 : BitVec 32 := Scalar.muli arg1 c2_i32_794
  let c0_i32_795 : BitVec 32 := 0#32
  let v1337 : BitVec 32 := Scalar.addi v1336 c0_i32_795
  let c256_i32_796 : BitVec 32 := 256#32
  let v1338 : BitVec 32 := Scalar.muli v1337 c256_i32_796
  let c83_i32 : BitVec 32 := 83#32
  let v1339 : BitVec 32 := Scalar.addi v1338 c83_i32
  let v1341 : Index := Scalar.indexCast v1339
  ![0, 0, v1341.toNat]
def k0_mult169 (v1342 : BitVec 32) : BitVec 32 :=
  v1342

def k0_mult170 (i : grid0.Coords) : BitVec 32 :=
  let arg1 : BitVec 32 := BitVec.ofNat 32 (i 1).val
  let c2_i32_794 : BitVec 32 := 2#32
  let v1336 : BitVec 32 := Scalar.muli arg1 c2_i32_794
  let c0_i32_795 : BitVec 32 := 0#32
  let v1337 : BitVec 32 := Scalar.addi v1336 c0_i32_795
  let c256_i32_796 : BitVec 32 := 256#32
  let v1338 : BitVec 32 := Scalar.muli v1337 c256_i32_796
  let c83_i32 : BitVec 32 := 83#32
  let v1339 : BitVec 32 := Scalar.addi v1338 c83_i32
  let c8_i32_800 : BitVec 32 := 8#32
  let v1344 : BitVec 32 := Scalar.muli v1339 c8_i32_800
  v1344
def k0_off347 (i : grid0.Coords) : Fin 1 → Nat :=
  let c1_i32_797 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1340 : BitVec 32 := Scalar.subi c1_i32_797 v9
  ![v1340.toNat]
def k0_off348 (i : grid0.Coords) : Fin 3 → Nat :=
  let c1_i32_797 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1340 : BitVec 32 := Scalar.subi c1_i32_797 v9
  let arg1 : BitVec 32 := BitVec.ofNat 32 (i 1).val
  let c2_i32_794 : BitVec 32 := 2#32
  let v1336 : BitVec 32 := Scalar.muli arg1 c2_i32_794
  let c0_i32_795 : BitVec 32 := 0#32
  let v1337 : BitVec 32 := Scalar.addi v1336 c0_i32_795
  let c256_i32_796 : BitVec 32 := 256#32
  let v1338 : BitVec 32 := Scalar.muli v1337 c256_i32_796
  let c83_i32 : BitVec 32 := 83#32
  let v1339 : BitVec 32 := Scalar.addi v1338 c83_i32
  let c8_i32_800 : BitVec 32 := 8#32
  let v1344 : BitVec 32 := Scalar.muli v1339 c8_i32_800
  let v1345 : BitVec 32 := v1344
  let c0_i32_801 : BitVec 32 := 0#32
  ![v1340.toNat, v1345.toNat, 0]
def k0_off349 (v1342 : BitVec 32) : Fin 2 → Nat :=
  let v1343 : BitVec 32 := v1342
  let c0_i32_802 : BitVec 32 := 0#32
  ![v1343.toNat, 0]

def k0_chk85 (i : grid0.Coords) (v1342 : BitVec 32) : Prop :=
  (∀ (k0_h2 : k0_cond2 i = 1#1), 8 ∣ (k0_mult169 v1342).toNat) ∧
  (∀ (k0_h2 : k0_cond2 i = 1#1), ∀ a, (k0_off349 v1342) a + S8x128.size a ≤ S131072x128.size a)
theorem k0_mult169_dvd : ∀ (i : grid0.Coords) (v1342 : BitVec 32) (k0_hw85 : k0_chk85 i v1342), ∀ (k0_h2 : k0_cond2 i = 1#1), 8 ∣ (k0_mult169 v1342).toNat := fun i v1342 k0_hw85 k0_h2 => k0_hw85.1 k0_h2
theorem k0_off349_inb : ∀ (i : grid0.Coords) (v1342 : BitVec 32) (k0_hw85 : k0_chk85 i v1342), ∀ (k0_h2 : k0_cond2 i = 1#1), ∀ a, (k0_off349 v1342) a + S8x128.size a ≤ S131072x128.size a := fun i v1342 k0_hw85 k0_h2 => k0_hw85.2 k0_h2

def k0_off350 (i : grid0.Coords) : Fin 3 → Nat :=
  let c0_807 : Index := 0#32
  let c0_808 : Index := 0#32
  let arg1 : BitVec 32 := BitVec.ofNat 32 (i 1).val
  let c2_i32_803 : BitVec 32 := 2#32
  let v1351 : BitVec 32 := Scalar.muli arg1 c2_i32_803
  let c0_i32_804 : BitVec 32 := 0#32
  let v1352 : BitVec 32 := Scalar.addi v1351 c0_i32_804
  let c256_i32_805 : BitVec 32 := 256#32
  let v1353 : BitVec 32 := Scalar.muli v1352 c256_i32_805
  let c84_i32 : BitVec 32 := 84#32
  let v1354 : BitVec 32 := Scalar.addi v1353 c84_i32
  let v1356 : Index := Scalar.indexCast v1354
  ![0, 0, v1356.toNat]
def k0_mult171 (v1357 : BitVec 32) : BitVec 32 :=
  v1357

def k0_mult172 (i : grid0.Coords) : BitVec 32 :=
  let arg1 : BitVec 32 := BitVec.ofNat 32 (i 1).val
  let c2_i32_803 : BitVec 32 := 2#32
  let v1351 : BitVec 32 := Scalar.muli arg1 c2_i32_803
  let c0_i32_804 : BitVec 32 := 0#32
  let v1352 : BitVec 32 := Scalar.addi v1351 c0_i32_804
  let c256_i32_805 : BitVec 32 := 256#32
  let v1353 : BitVec 32 := Scalar.muli v1352 c256_i32_805
  let c84_i32 : BitVec 32 := 84#32
  let v1354 : BitVec 32 := Scalar.addi v1353 c84_i32
  let c8_i32_809 : BitVec 32 := 8#32
  let v1359 : BitVec 32 := Scalar.muli v1354 c8_i32_809
  v1359
def k0_off351 (i : grid0.Coords) : Fin 1 → Nat :=
  let c1_i32_806 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1355 : BitVec 32 := Scalar.subi c1_i32_806 v9
  ![v1355.toNat]
def k0_off352 (i : grid0.Coords) : Fin 3 → Nat :=
  let c1_i32_806 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1355 : BitVec 32 := Scalar.subi c1_i32_806 v9
  let arg1 : BitVec 32 := BitVec.ofNat 32 (i 1).val
  let c2_i32_803 : BitVec 32 := 2#32
  let v1351 : BitVec 32 := Scalar.muli arg1 c2_i32_803
  let c0_i32_804 : BitVec 32 := 0#32
  let v1352 : BitVec 32 := Scalar.addi v1351 c0_i32_804
  let c256_i32_805 : BitVec 32 := 256#32
  let v1353 : BitVec 32 := Scalar.muli v1352 c256_i32_805
  let c84_i32 : BitVec 32 := 84#32
  let v1354 : BitVec 32 := Scalar.addi v1353 c84_i32
  let c8_i32_809 : BitVec 32 := 8#32
  let v1359 : BitVec 32 := Scalar.muli v1354 c8_i32_809
  let v1360 : BitVec 32 := v1359
  let c0_i32_810 : BitVec 32 := 0#32
  ![v1355.toNat, v1360.toNat, 0]
def k0_off353 (v1357 : BitVec 32) : Fin 2 → Nat :=
  let v1358 : BitVec 32 := v1357
  let c0_i32_811 : BitVec 32 := 0#32
  ![v1358.toNat, 0]

def k0_chk86 (i : grid0.Coords) (v1357 : BitVec 32) : Prop :=
  (∀ (k0_h2 : k0_cond2 i = 1#1), 8 ∣ (k0_mult171 v1357).toNat) ∧
  (∀ (k0_h2 : k0_cond2 i = 1#1), ∀ a, (k0_off353 v1357) a + S8x128.size a ≤ S131072x128.size a)
theorem k0_mult171_dvd : ∀ (i : grid0.Coords) (v1357 : BitVec 32) (k0_hw86 : k0_chk86 i v1357), ∀ (k0_h2 : k0_cond2 i = 1#1), 8 ∣ (k0_mult171 v1357).toNat := fun i v1357 k0_hw86 k0_h2 => k0_hw86.1 k0_h2
theorem k0_off353_inb : ∀ (i : grid0.Coords) (v1357 : BitVec 32) (k0_hw86 : k0_chk86 i v1357), ∀ (k0_h2 : k0_cond2 i = 1#1), ∀ a, (k0_off353 v1357) a + S8x128.size a ≤ S131072x128.size a := fun i v1357 k0_hw86 k0_h2 => k0_hw86.2 k0_h2

def k0_off354 (i : grid0.Coords) : Fin 3 → Nat :=
  let c0_816 : Index := 0#32
  let c0_817 : Index := 0#32
  let arg1 : BitVec 32 := BitVec.ofNat 32 (i 1).val
  let c2_i32_812 : BitVec 32 := 2#32
  let v1366 : BitVec 32 := Scalar.muli arg1 c2_i32_812
  let c0_i32_813 : BitVec 32 := 0#32
  let v1367 : BitVec 32 := Scalar.addi v1366 c0_i32_813
  let c256_i32_814 : BitVec 32 := 256#32
  let v1368 : BitVec 32 := Scalar.muli v1367 c256_i32_814
  let c85_i32 : BitVec 32 := 85#32
  let v1369 : BitVec 32 := Scalar.addi v1368 c85_i32
  let v1371 : Index := Scalar.indexCast v1369
  ![0, 0, v1371.toNat]
def k0_mult173 (v1372 : BitVec 32) : BitVec 32 :=
  v1372

def k0_mult174 (i : grid0.Coords) : BitVec 32 :=
  let arg1 : BitVec 32 := BitVec.ofNat 32 (i 1).val
  let c2_i32_812 : BitVec 32 := 2#32
  let v1366 : BitVec 32 := Scalar.muli arg1 c2_i32_812
  let c0_i32_813 : BitVec 32 := 0#32
  let v1367 : BitVec 32 := Scalar.addi v1366 c0_i32_813
  let c256_i32_814 : BitVec 32 := 256#32
  let v1368 : BitVec 32 := Scalar.muli v1367 c256_i32_814
  let c85_i32 : BitVec 32 := 85#32
  let v1369 : BitVec 32 := Scalar.addi v1368 c85_i32
  let c8_i32_818 : BitVec 32 := 8#32
  let v1374 : BitVec 32 := Scalar.muli v1369 c8_i32_818
  v1374
def k0_off355 (i : grid0.Coords) : Fin 1 → Nat :=
  let c1_i32_815 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1370 : BitVec 32 := Scalar.subi c1_i32_815 v9
  ![v1370.toNat]
def k0_off356 (i : grid0.Coords) : Fin 3 → Nat :=
  let c1_i32_815 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1370 : BitVec 32 := Scalar.subi c1_i32_815 v9
  let arg1 : BitVec 32 := BitVec.ofNat 32 (i 1).val
  let c2_i32_812 : BitVec 32 := 2#32
  let v1366 : BitVec 32 := Scalar.muli arg1 c2_i32_812
  let c0_i32_813 : BitVec 32 := 0#32
  let v1367 : BitVec 32 := Scalar.addi v1366 c0_i32_813
  let c256_i32_814 : BitVec 32 := 256#32
  let v1368 : BitVec 32 := Scalar.muli v1367 c256_i32_814
  let c85_i32 : BitVec 32 := 85#32
  let v1369 : BitVec 32 := Scalar.addi v1368 c85_i32
  let c8_i32_818 : BitVec 32 := 8#32
  let v1374 : BitVec 32 := Scalar.muli v1369 c8_i32_818
  let v1375 : BitVec 32 := v1374
  let c0_i32_819 : BitVec 32 := 0#32
  ![v1370.toNat, v1375.toNat, 0]
def k0_off357 (v1372 : BitVec 32) : Fin 2 → Nat :=
  let v1373 : BitVec 32 := v1372
  let c0_i32_820 : BitVec 32 := 0#32
  ![v1373.toNat, 0]

def k0_chk87 (i : grid0.Coords) (v1372 : BitVec 32) : Prop :=
  (∀ (k0_h2 : k0_cond2 i = 1#1), 8 ∣ (k0_mult173 v1372).toNat) ∧
  (∀ (k0_h2 : k0_cond2 i = 1#1), ∀ a, (k0_off357 v1372) a + S8x128.size a ≤ S131072x128.size a)
theorem k0_mult173_dvd : ∀ (i : grid0.Coords) (v1372 : BitVec 32) (k0_hw87 : k0_chk87 i v1372), ∀ (k0_h2 : k0_cond2 i = 1#1), 8 ∣ (k0_mult173 v1372).toNat := fun i v1372 k0_hw87 k0_h2 => k0_hw87.1 k0_h2
theorem k0_off357_inb : ∀ (i : grid0.Coords) (v1372 : BitVec 32) (k0_hw87 : k0_chk87 i v1372), ∀ (k0_h2 : k0_cond2 i = 1#1), ∀ a, (k0_off357 v1372) a + S8x128.size a ≤ S131072x128.size a := fun i v1372 k0_hw87 k0_h2 => k0_hw87.2 k0_h2

def k0_off358 (i : grid0.Coords) : Fin 3 → Nat :=
  let c0_825 : Index := 0#32
  let c0_826 : Index := 0#32
  let arg1 : BitVec 32 := BitVec.ofNat 32 (i 1).val
  let c2_i32_821 : BitVec 32 := 2#32
  let v1381 : BitVec 32 := Scalar.muli arg1 c2_i32_821
  let c0_i32_822 : BitVec 32 := 0#32
  let v1382 : BitVec 32 := Scalar.addi v1381 c0_i32_822
  let c256_i32_823 : BitVec 32 := 256#32
  let v1383 : BitVec 32 := Scalar.muli v1382 c256_i32_823
  let c86_i32 : BitVec 32 := 86#32
  let v1384 : BitVec 32 := Scalar.addi v1383 c86_i32
  let v1386 : Index := Scalar.indexCast v1384
  ![0, 0, v1386.toNat]
def k0_mult175 (v1387 : BitVec 32) : BitVec 32 :=
  v1387

def k0_mult176 (i : grid0.Coords) : BitVec 32 :=
  let arg1 : BitVec 32 := BitVec.ofNat 32 (i 1).val
  let c2_i32_821 : BitVec 32 := 2#32
  let v1381 : BitVec 32 := Scalar.muli arg1 c2_i32_821
  let c0_i32_822 : BitVec 32 := 0#32
  let v1382 : BitVec 32 := Scalar.addi v1381 c0_i32_822
  let c256_i32_823 : BitVec 32 := 256#32
  let v1383 : BitVec 32 := Scalar.muli v1382 c256_i32_823
  let c86_i32 : BitVec 32 := 86#32
  let v1384 : BitVec 32 := Scalar.addi v1383 c86_i32
  let c8_i32_827 : BitVec 32 := 8#32
  let v1389 : BitVec 32 := Scalar.muli v1384 c8_i32_827
  v1389
def k0_off359 (i : grid0.Coords) : Fin 1 → Nat :=
  let c1_i32_824 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1385 : BitVec 32 := Scalar.subi c1_i32_824 v9
  ![v1385.toNat]
def k0_off360 (i : grid0.Coords) : Fin 3 → Nat :=
  let c1_i32_824 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1385 : BitVec 32 := Scalar.subi c1_i32_824 v9
  let arg1 : BitVec 32 := BitVec.ofNat 32 (i 1).val
  let c2_i32_821 : BitVec 32 := 2#32
  let v1381 : BitVec 32 := Scalar.muli arg1 c2_i32_821
  let c0_i32_822 : BitVec 32 := 0#32
  let v1382 : BitVec 32 := Scalar.addi v1381 c0_i32_822
  let c256_i32_823 : BitVec 32 := 256#32
  let v1383 : BitVec 32 := Scalar.muli v1382 c256_i32_823
  let c86_i32 : BitVec 32 := 86#32
  let v1384 : BitVec 32 := Scalar.addi v1383 c86_i32
  let c8_i32_827 : BitVec 32 := 8#32
  let v1389 : BitVec 32 := Scalar.muli v1384 c8_i32_827
  let v1390 : BitVec 32 := v1389
  let c0_i32_828 : BitVec 32 := 0#32
  ![v1385.toNat, v1390.toNat, 0]
def k0_off361 (v1387 : BitVec 32) : Fin 2 → Nat :=
  let v1388 : BitVec 32 := v1387
  let c0_i32_829 : BitVec 32 := 0#32
  ![v1388.toNat, 0]

def k0_chk88 (i : grid0.Coords) (v1387 : BitVec 32) : Prop :=
  (∀ (k0_h2 : k0_cond2 i = 1#1), 8 ∣ (k0_mult175 v1387).toNat) ∧
  (∀ (k0_h2 : k0_cond2 i = 1#1), ∀ a, (k0_off361 v1387) a + S8x128.size a ≤ S131072x128.size a)
theorem k0_mult175_dvd : ∀ (i : grid0.Coords) (v1387 : BitVec 32) (k0_hw88 : k0_chk88 i v1387), ∀ (k0_h2 : k0_cond2 i = 1#1), 8 ∣ (k0_mult175 v1387).toNat := fun i v1387 k0_hw88 k0_h2 => k0_hw88.1 k0_h2
theorem k0_off361_inb : ∀ (i : grid0.Coords) (v1387 : BitVec 32) (k0_hw88 : k0_chk88 i v1387), ∀ (k0_h2 : k0_cond2 i = 1#1), ∀ a, (k0_off361 v1387) a + S8x128.size a ≤ S131072x128.size a := fun i v1387 k0_hw88 k0_h2 => k0_hw88.2 k0_h2

def k0_off362 (i : grid0.Coords) : Fin 3 → Nat :=
  let c0_834 : Index := 0#32
  let c0_835 : Index := 0#32
  let arg1 : BitVec 32 := BitVec.ofNat 32 (i 1).val
  let c2_i32_830 : BitVec 32 := 2#32
  let v1396 : BitVec 32 := Scalar.muli arg1 c2_i32_830
  let c0_i32_831 : BitVec 32 := 0#32
  let v1397 : BitVec 32 := Scalar.addi v1396 c0_i32_831
  let c256_i32_832 : BitVec 32 := 256#32
  let v1398 : BitVec 32 := Scalar.muli v1397 c256_i32_832
  let c87_i32 : BitVec 32 := 87#32
  let v1399 : BitVec 32 := Scalar.addi v1398 c87_i32
  let v1401 : Index := Scalar.indexCast v1399
  ![0, 0, v1401.toNat]
def k0_mult177 (v1402 : BitVec 32) : BitVec 32 :=
  v1402

def k0_mult178 (i : grid0.Coords) : BitVec 32 :=
  let arg1 : BitVec 32 := BitVec.ofNat 32 (i 1).val
  let c2_i32_830 : BitVec 32 := 2#32
  let v1396 : BitVec 32 := Scalar.muli arg1 c2_i32_830
  let c0_i32_831 : BitVec 32 := 0#32
  let v1397 : BitVec 32 := Scalar.addi v1396 c0_i32_831
  let c256_i32_832 : BitVec 32 := 256#32
  let v1398 : BitVec 32 := Scalar.muli v1397 c256_i32_832
  let c87_i32 : BitVec 32 := 87#32
  let v1399 : BitVec 32 := Scalar.addi v1398 c87_i32
  let c8_i32_836 : BitVec 32 := 8#32
  let v1404 : BitVec 32 := Scalar.muli v1399 c8_i32_836
  v1404
def k0_off363 (i : grid0.Coords) : Fin 1 → Nat :=
  let c1_i32_833 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1400 : BitVec 32 := Scalar.subi c1_i32_833 v9
  ![v1400.toNat]
def k0_off364 (i : grid0.Coords) : Fin 3 → Nat :=
  let c1_i32_833 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1400 : BitVec 32 := Scalar.subi c1_i32_833 v9
  let arg1 : BitVec 32 := BitVec.ofNat 32 (i 1).val
  let c2_i32_830 : BitVec 32 := 2#32
  let v1396 : BitVec 32 := Scalar.muli arg1 c2_i32_830
  let c0_i32_831 : BitVec 32 := 0#32
  let v1397 : BitVec 32 := Scalar.addi v1396 c0_i32_831
  let c256_i32_832 : BitVec 32 := 256#32
  let v1398 : BitVec 32 := Scalar.muli v1397 c256_i32_832
  let c87_i32 : BitVec 32 := 87#32
  let v1399 : BitVec 32 := Scalar.addi v1398 c87_i32
  let c8_i32_836 : BitVec 32 := 8#32
  let v1404 : BitVec 32 := Scalar.muli v1399 c8_i32_836
  let v1405 : BitVec 32 := v1404
  let c0_i32_837 : BitVec 32 := 0#32
  ![v1400.toNat, v1405.toNat, 0]
def k0_off365 (v1402 : BitVec 32) : Fin 2 → Nat :=
  let v1403 : BitVec 32 := v1402
  let c0_i32_838 : BitVec 32 := 0#32
  ![v1403.toNat, 0]

def k0_chk89 (i : grid0.Coords) (v1402 : BitVec 32) : Prop :=
  (∀ (k0_h2 : k0_cond2 i = 1#1), 8 ∣ (k0_mult177 v1402).toNat) ∧
  (∀ (k0_h2 : k0_cond2 i = 1#1), ∀ a, (k0_off365 v1402) a + S8x128.size a ≤ S131072x128.size a)
theorem k0_mult177_dvd : ∀ (i : grid0.Coords) (v1402 : BitVec 32) (k0_hw89 : k0_chk89 i v1402), ∀ (k0_h2 : k0_cond2 i = 1#1), 8 ∣ (k0_mult177 v1402).toNat := fun i v1402 k0_hw89 k0_h2 => k0_hw89.1 k0_h2
theorem k0_off365_inb : ∀ (i : grid0.Coords) (v1402 : BitVec 32) (k0_hw89 : k0_chk89 i v1402), ∀ (k0_h2 : k0_cond2 i = 1#1), ∀ a, (k0_off365 v1402) a + S8x128.size a ≤ S131072x128.size a := fun i v1402 k0_hw89 k0_h2 => k0_hw89.2 k0_h2

def k0_off366 (i : grid0.Coords) : Fin 3 → Nat :=
  let c0_843 : Index := 0#32
  let c0_844 : Index := 0#32
  let arg1 : BitVec 32 := BitVec.ofNat 32 (i 1).val
  let c2_i32_839 : BitVec 32 := 2#32
  let v1411 : BitVec 32 := Scalar.muli arg1 c2_i32_839
  let c0_i32_840 : BitVec 32 := 0#32
  let v1412 : BitVec 32 := Scalar.addi v1411 c0_i32_840
  let c256_i32_841 : BitVec 32 := 256#32
  let v1413 : BitVec 32 := Scalar.muli v1412 c256_i32_841
  let c88_i32 : BitVec 32 := 88#32
  let v1414 : BitVec 32 := Scalar.addi v1413 c88_i32
  let v1416 : Index := Scalar.indexCast v1414
  ![0, 0, v1416.toNat]
def k0_mult179 (v1417 : BitVec 32) : BitVec 32 :=
  v1417

def k0_mult180 (i : grid0.Coords) : BitVec 32 :=
  let arg1 : BitVec 32 := BitVec.ofNat 32 (i 1).val
  let c2_i32_839 : BitVec 32 := 2#32
  let v1411 : BitVec 32 := Scalar.muli arg1 c2_i32_839
  let c0_i32_840 : BitVec 32 := 0#32
  let v1412 : BitVec 32 := Scalar.addi v1411 c0_i32_840
  let c256_i32_841 : BitVec 32 := 256#32
  let v1413 : BitVec 32 := Scalar.muli v1412 c256_i32_841
  let c88_i32 : BitVec 32 := 88#32
  let v1414 : BitVec 32 := Scalar.addi v1413 c88_i32
  let c8_i32_845 : BitVec 32 := 8#32
  let v1419 : BitVec 32 := Scalar.muli v1414 c8_i32_845
  v1419
def k0_off367 (i : grid0.Coords) : Fin 1 → Nat :=
  let c1_i32_842 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1415 : BitVec 32 := Scalar.subi c1_i32_842 v9
  ![v1415.toNat]
def k0_off368 (i : grid0.Coords) : Fin 3 → Nat :=
  let c1_i32_842 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1415 : BitVec 32 := Scalar.subi c1_i32_842 v9
  let arg1 : BitVec 32 := BitVec.ofNat 32 (i 1).val
  let c2_i32_839 : BitVec 32 := 2#32
  let v1411 : BitVec 32 := Scalar.muli arg1 c2_i32_839
  let c0_i32_840 : BitVec 32 := 0#32
  let v1412 : BitVec 32 := Scalar.addi v1411 c0_i32_840
  let c256_i32_841 : BitVec 32 := 256#32
  let v1413 : BitVec 32 := Scalar.muli v1412 c256_i32_841
  let c88_i32 : BitVec 32 := 88#32
  let v1414 : BitVec 32 := Scalar.addi v1413 c88_i32
  let c8_i32_845 : BitVec 32 := 8#32
  let v1419 : BitVec 32 := Scalar.muli v1414 c8_i32_845
  let v1420 : BitVec 32 := v1419
  let c0_i32_846 : BitVec 32 := 0#32
  ![v1415.toNat, v1420.toNat, 0]
def k0_off369 (v1417 : BitVec 32) : Fin 2 → Nat :=
  let v1418 : BitVec 32 := v1417
  let c0_i32_847 : BitVec 32 := 0#32
  ![v1418.toNat, 0]

def k0_chk90 (i : grid0.Coords) (v1417 : BitVec 32) : Prop :=
  (∀ (k0_h2 : k0_cond2 i = 1#1), 8 ∣ (k0_mult179 v1417).toNat) ∧
  (∀ (k0_h2 : k0_cond2 i = 1#1), ∀ a, (k0_off369 v1417) a + S8x128.size a ≤ S131072x128.size a)
theorem k0_mult179_dvd : ∀ (i : grid0.Coords) (v1417 : BitVec 32) (k0_hw90 : k0_chk90 i v1417), ∀ (k0_h2 : k0_cond2 i = 1#1), 8 ∣ (k0_mult179 v1417).toNat := fun i v1417 k0_hw90 k0_h2 => k0_hw90.1 k0_h2
theorem k0_off369_inb : ∀ (i : grid0.Coords) (v1417 : BitVec 32) (k0_hw90 : k0_chk90 i v1417), ∀ (k0_h2 : k0_cond2 i = 1#1), ∀ a, (k0_off369 v1417) a + S8x128.size a ≤ S131072x128.size a := fun i v1417 k0_hw90 k0_h2 => k0_hw90.2 k0_h2

def k0_off370 (i : grid0.Coords) : Fin 3 → Nat :=
  let c0_852 : Index := 0#32
  let c0_853 : Index := 0#32
  let arg1 : BitVec 32 := BitVec.ofNat 32 (i 1).val
  let c2_i32_848 : BitVec 32 := 2#32
  let v1426 : BitVec 32 := Scalar.muli arg1 c2_i32_848
  let c0_i32_849 : BitVec 32 := 0#32
  let v1427 : BitVec 32 := Scalar.addi v1426 c0_i32_849
  let c256_i32_850 : BitVec 32 := 256#32
  let v1428 : BitVec 32 := Scalar.muli v1427 c256_i32_850
  let c89_i32 : BitVec 32 := 89#32
  let v1429 : BitVec 32 := Scalar.addi v1428 c89_i32
  let v1431 : Index := Scalar.indexCast v1429
  ![0, 0, v1431.toNat]
def k0_mult181 (v1432 : BitVec 32) : BitVec 32 :=
  v1432

def k0_mult182 (i : grid0.Coords) : BitVec 32 :=
  let arg1 : BitVec 32 := BitVec.ofNat 32 (i 1).val
  let c2_i32_848 : BitVec 32 := 2#32
  let v1426 : BitVec 32 := Scalar.muli arg1 c2_i32_848
  let c0_i32_849 : BitVec 32 := 0#32
  let v1427 : BitVec 32 := Scalar.addi v1426 c0_i32_849
  let c256_i32_850 : BitVec 32 := 256#32
  let v1428 : BitVec 32 := Scalar.muli v1427 c256_i32_850
  let c89_i32 : BitVec 32 := 89#32
  let v1429 : BitVec 32 := Scalar.addi v1428 c89_i32
  let c8_i32_854 : BitVec 32 := 8#32
  let v1434 : BitVec 32 := Scalar.muli v1429 c8_i32_854
  v1434
def k0_off371 (i : grid0.Coords) : Fin 1 → Nat :=
  let c1_i32_851 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1430 : BitVec 32 := Scalar.subi c1_i32_851 v9
  ![v1430.toNat]
def k0_off372 (i : grid0.Coords) : Fin 3 → Nat :=
  let c1_i32_851 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1430 : BitVec 32 := Scalar.subi c1_i32_851 v9
  let arg1 : BitVec 32 := BitVec.ofNat 32 (i 1).val
  let c2_i32_848 : BitVec 32 := 2#32
  let v1426 : BitVec 32 := Scalar.muli arg1 c2_i32_848
  let c0_i32_849 : BitVec 32 := 0#32
  let v1427 : BitVec 32 := Scalar.addi v1426 c0_i32_849
  let c256_i32_850 : BitVec 32 := 256#32
  let v1428 : BitVec 32 := Scalar.muli v1427 c256_i32_850
  let c89_i32 : BitVec 32 := 89#32
  let v1429 : BitVec 32 := Scalar.addi v1428 c89_i32
  let c8_i32_854 : BitVec 32 := 8#32
  let v1434 : BitVec 32 := Scalar.muli v1429 c8_i32_854
  let v1435 : BitVec 32 := v1434
  let c0_i32_855 : BitVec 32 := 0#32
  ![v1430.toNat, v1435.toNat, 0]
def k0_off373 (v1432 : BitVec 32) : Fin 2 → Nat :=
  let v1433 : BitVec 32 := v1432
  let c0_i32_856 : BitVec 32 := 0#32
  ![v1433.toNat, 0]

def k0_chk91 (i : grid0.Coords) (v1432 : BitVec 32) : Prop :=
  (∀ (k0_h2 : k0_cond2 i = 1#1), 8 ∣ (k0_mult181 v1432).toNat) ∧
  (∀ (k0_h2 : k0_cond2 i = 1#1), ∀ a, (k0_off373 v1432) a + S8x128.size a ≤ S131072x128.size a)
theorem k0_mult181_dvd : ∀ (i : grid0.Coords) (v1432 : BitVec 32) (k0_hw91 : k0_chk91 i v1432), ∀ (k0_h2 : k0_cond2 i = 1#1), 8 ∣ (k0_mult181 v1432).toNat := fun i v1432 k0_hw91 k0_h2 => k0_hw91.1 k0_h2
theorem k0_off373_inb : ∀ (i : grid0.Coords) (v1432 : BitVec 32) (k0_hw91 : k0_chk91 i v1432), ∀ (k0_h2 : k0_cond2 i = 1#1), ∀ a, (k0_off373 v1432) a + S8x128.size a ≤ S131072x128.size a := fun i v1432 k0_hw91 k0_h2 => k0_hw91.2 k0_h2

def k0_off374 (i : grid0.Coords) : Fin 3 → Nat :=
  let c0_861 : Index := 0#32
  let c0_862 : Index := 0#32
  let arg1 : BitVec 32 := BitVec.ofNat 32 (i 1).val
  let c2_i32_857 : BitVec 32 := 2#32
  let v1441 : BitVec 32 := Scalar.muli arg1 c2_i32_857
  let c0_i32_858 : BitVec 32 := 0#32
  let v1442 : BitVec 32 := Scalar.addi v1441 c0_i32_858
  let c256_i32_859 : BitVec 32 := 256#32
  let v1443 : BitVec 32 := Scalar.muli v1442 c256_i32_859
  let c90_i32 : BitVec 32 := 90#32
  let v1444 : BitVec 32 := Scalar.addi v1443 c90_i32
  let v1446 : Index := Scalar.indexCast v1444
  ![0, 0, v1446.toNat]
def k0_mult183 (v1447 : BitVec 32) : BitVec 32 :=
  v1447

def k0_mult184 (i : grid0.Coords) : BitVec 32 :=
  let arg1 : BitVec 32 := BitVec.ofNat 32 (i 1).val
  let c2_i32_857 : BitVec 32 := 2#32
  let v1441 : BitVec 32 := Scalar.muli arg1 c2_i32_857
  let c0_i32_858 : BitVec 32 := 0#32
  let v1442 : BitVec 32 := Scalar.addi v1441 c0_i32_858
  let c256_i32_859 : BitVec 32 := 256#32
  let v1443 : BitVec 32 := Scalar.muli v1442 c256_i32_859
  let c90_i32 : BitVec 32 := 90#32
  let v1444 : BitVec 32 := Scalar.addi v1443 c90_i32
  let c8_i32_863 : BitVec 32 := 8#32
  let v1449 : BitVec 32 := Scalar.muli v1444 c8_i32_863
  v1449
def k0_off375 (i : grid0.Coords) : Fin 1 → Nat :=
  let c1_i32_860 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1445 : BitVec 32 := Scalar.subi c1_i32_860 v9
  ![v1445.toNat]
def k0_off376 (i : grid0.Coords) : Fin 3 → Nat :=
  let c1_i32_860 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1445 : BitVec 32 := Scalar.subi c1_i32_860 v9
  let arg1 : BitVec 32 := BitVec.ofNat 32 (i 1).val
  let c2_i32_857 : BitVec 32 := 2#32
  let v1441 : BitVec 32 := Scalar.muli arg1 c2_i32_857
  let c0_i32_858 : BitVec 32 := 0#32
  let v1442 : BitVec 32 := Scalar.addi v1441 c0_i32_858
  let c256_i32_859 : BitVec 32 := 256#32
  let v1443 : BitVec 32 := Scalar.muli v1442 c256_i32_859
  let c90_i32 : BitVec 32 := 90#32
  let v1444 : BitVec 32 := Scalar.addi v1443 c90_i32
  let c8_i32_863 : BitVec 32 := 8#32
  let v1449 : BitVec 32 := Scalar.muli v1444 c8_i32_863
  let v1450 : BitVec 32 := v1449
  let c0_i32_864 : BitVec 32 := 0#32
  ![v1445.toNat, v1450.toNat, 0]
def k0_off377 (v1447 : BitVec 32) : Fin 2 → Nat :=
  let v1448 : BitVec 32 := v1447
  let c0_i32_865 : BitVec 32 := 0#32
  ![v1448.toNat, 0]

def k0_chk92 (i : grid0.Coords) (v1447 : BitVec 32) : Prop :=
  (∀ (k0_h2 : k0_cond2 i = 1#1), 8 ∣ (k0_mult183 v1447).toNat) ∧
  (∀ (k0_h2 : k0_cond2 i = 1#1), ∀ a, (k0_off377 v1447) a + S8x128.size a ≤ S131072x128.size a)
theorem k0_mult183_dvd : ∀ (i : grid0.Coords) (v1447 : BitVec 32) (k0_hw92 : k0_chk92 i v1447), ∀ (k0_h2 : k0_cond2 i = 1#1), 8 ∣ (k0_mult183 v1447).toNat := fun i v1447 k0_hw92 k0_h2 => k0_hw92.1 k0_h2
theorem k0_off377_inb : ∀ (i : grid0.Coords) (v1447 : BitVec 32) (k0_hw92 : k0_chk92 i v1447), ∀ (k0_h2 : k0_cond2 i = 1#1), ∀ a, (k0_off377 v1447) a + S8x128.size a ≤ S131072x128.size a := fun i v1447 k0_hw92 k0_h2 => k0_hw92.2 k0_h2

def k0_off378 (i : grid0.Coords) : Fin 3 → Nat :=
  let c0_870 : Index := 0#32
  let c0_871 : Index := 0#32
  let arg1 : BitVec 32 := BitVec.ofNat 32 (i 1).val
  let c2_i32_866 : BitVec 32 := 2#32
  let v1456 : BitVec 32 := Scalar.muli arg1 c2_i32_866
  let c0_i32_867 : BitVec 32 := 0#32
  let v1457 : BitVec 32 := Scalar.addi v1456 c0_i32_867
  let c256_i32_868 : BitVec 32 := 256#32
  let v1458 : BitVec 32 := Scalar.muli v1457 c256_i32_868
  let c91_i32 : BitVec 32 := 91#32
  let v1459 : BitVec 32 := Scalar.addi v1458 c91_i32
  let v1461 : Index := Scalar.indexCast v1459
  ![0, 0, v1461.toNat]
def k0_mult185 (v1462 : BitVec 32) : BitVec 32 :=
  v1462

def k0_mult186 (i : grid0.Coords) : BitVec 32 :=
  let arg1 : BitVec 32 := BitVec.ofNat 32 (i 1).val
  let c2_i32_866 : BitVec 32 := 2#32
  let v1456 : BitVec 32 := Scalar.muli arg1 c2_i32_866
  let c0_i32_867 : BitVec 32 := 0#32
  let v1457 : BitVec 32 := Scalar.addi v1456 c0_i32_867
  let c256_i32_868 : BitVec 32 := 256#32
  let v1458 : BitVec 32 := Scalar.muli v1457 c256_i32_868
  let c91_i32 : BitVec 32 := 91#32
  let v1459 : BitVec 32 := Scalar.addi v1458 c91_i32
  let c8_i32_872 : BitVec 32 := 8#32
  let v1464 : BitVec 32 := Scalar.muli v1459 c8_i32_872
  v1464
def k0_off379 (i : grid0.Coords) : Fin 1 → Nat :=
  let c1_i32_869 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1460 : BitVec 32 := Scalar.subi c1_i32_869 v9
  ![v1460.toNat]
def k0_off380 (i : grid0.Coords) : Fin 3 → Nat :=
  let c1_i32_869 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1460 : BitVec 32 := Scalar.subi c1_i32_869 v9
  let arg1 : BitVec 32 := BitVec.ofNat 32 (i 1).val
  let c2_i32_866 : BitVec 32 := 2#32
  let v1456 : BitVec 32 := Scalar.muli arg1 c2_i32_866
  let c0_i32_867 : BitVec 32 := 0#32
  let v1457 : BitVec 32 := Scalar.addi v1456 c0_i32_867
  let c256_i32_868 : BitVec 32 := 256#32
  let v1458 : BitVec 32 := Scalar.muli v1457 c256_i32_868
  let c91_i32 : BitVec 32 := 91#32
  let v1459 : BitVec 32 := Scalar.addi v1458 c91_i32
  let c8_i32_872 : BitVec 32 := 8#32
  let v1464 : BitVec 32 := Scalar.muli v1459 c8_i32_872
  let v1465 : BitVec 32 := v1464
  let c0_i32_873 : BitVec 32 := 0#32
  ![v1460.toNat, v1465.toNat, 0]
def k0_off381 (v1462 : BitVec 32) : Fin 2 → Nat :=
  let v1463 : BitVec 32 := v1462
  let c0_i32_874 : BitVec 32 := 0#32
  ![v1463.toNat, 0]

def k0_chk93 (i : grid0.Coords) (v1462 : BitVec 32) : Prop :=
  (∀ (k0_h2 : k0_cond2 i = 1#1), 8 ∣ (k0_mult185 v1462).toNat) ∧
  (∀ (k0_h2 : k0_cond2 i = 1#1), ∀ a, (k0_off381 v1462) a + S8x128.size a ≤ S131072x128.size a)
theorem k0_mult185_dvd : ∀ (i : grid0.Coords) (v1462 : BitVec 32) (k0_hw93 : k0_chk93 i v1462), ∀ (k0_h2 : k0_cond2 i = 1#1), 8 ∣ (k0_mult185 v1462).toNat := fun i v1462 k0_hw93 k0_h2 => k0_hw93.1 k0_h2
theorem k0_off381_inb : ∀ (i : grid0.Coords) (v1462 : BitVec 32) (k0_hw93 : k0_chk93 i v1462), ∀ (k0_h2 : k0_cond2 i = 1#1), ∀ a, (k0_off381 v1462) a + S8x128.size a ≤ S131072x128.size a := fun i v1462 k0_hw93 k0_h2 => k0_hw93.2 k0_h2

def k0_off382 (i : grid0.Coords) : Fin 3 → Nat :=
  let c0_879 : Index := 0#32
  let c0_880 : Index := 0#32
  let arg1 : BitVec 32 := BitVec.ofNat 32 (i 1).val
  let c2_i32_875 : BitVec 32 := 2#32
  let v1471 : BitVec 32 := Scalar.muli arg1 c2_i32_875
  let c0_i32_876 : BitVec 32 := 0#32
  let v1472 : BitVec 32 := Scalar.addi v1471 c0_i32_876
  let c256_i32_877 : BitVec 32 := 256#32
  let v1473 : BitVec 32 := Scalar.muli v1472 c256_i32_877
  let c92_i32 : BitVec 32 := 92#32
  let v1474 : BitVec 32 := Scalar.addi v1473 c92_i32
  let v1476 : Index := Scalar.indexCast v1474
  ![0, 0, v1476.toNat]
def k0_mult187 (v1477 : BitVec 32) : BitVec 32 :=
  v1477

def k0_mult188 (i : grid0.Coords) : BitVec 32 :=
  let arg1 : BitVec 32 := BitVec.ofNat 32 (i 1).val
  let c2_i32_875 : BitVec 32 := 2#32
  let v1471 : BitVec 32 := Scalar.muli arg1 c2_i32_875
  let c0_i32_876 : BitVec 32 := 0#32
  let v1472 : BitVec 32 := Scalar.addi v1471 c0_i32_876
  let c256_i32_877 : BitVec 32 := 256#32
  let v1473 : BitVec 32 := Scalar.muli v1472 c256_i32_877
  let c92_i32 : BitVec 32 := 92#32
  let v1474 : BitVec 32 := Scalar.addi v1473 c92_i32
  let c8_i32_881 : BitVec 32 := 8#32
  let v1479 : BitVec 32 := Scalar.muli v1474 c8_i32_881
  v1479
def k0_off383 (i : grid0.Coords) : Fin 1 → Nat :=
  let c1_i32_878 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1475 : BitVec 32 := Scalar.subi c1_i32_878 v9
  ![v1475.toNat]
def k0_off384 (i : grid0.Coords) : Fin 3 → Nat :=
  let c1_i32_878 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1475 : BitVec 32 := Scalar.subi c1_i32_878 v9
  let arg1 : BitVec 32 := BitVec.ofNat 32 (i 1).val
  let c2_i32_875 : BitVec 32 := 2#32
  let v1471 : BitVec 32 := Scalar.muli arg1 c2_i32_875
  let c0_i32_876 : BitVec 32 := 0#32
  let v1472 : BitVec 32 := Scalar.addi v1471 c0_i32_876
  let c256_i32_877 : BitVec 32 := 256#32
  let v1473 : BitVec 32 := Scalar.muli v1472 c256_i32_877
  let c92_i32 : BitVec 32 := 92#32
  let v1474 : BitVec 32 := Scalar.addi v1473 c92_i32
  let c8_i32_881 : BitVec 32 := 8#32
  let v1479 : BitVec 32 := Scalar.muli v1474 c8_i32_881
  let v1480 : BitVec 32 := v1479
  let c0_i32_882 : BitVec 32 := 0#32
  ![v1475.toNat, v1480.toNat, 0]
def k0_off385 (v1477 : BitVec 32) : Fin 2 → Nat :=
  let v1478 : BitVec 32 := v1477
  let c0_i32_883 : BitVec 32 := 0#32
  ![v1478.toNat, 0]

def k0_chk94 (i : grid0.Coords) (v1477 : BitVec 32) : Prop :=
  (∀ (k0_h2 : k0_cond2 i = 1#1), 8 ∣ (k0_mult187 v1477).toNat) ∧
  (∀ (k0_h2 : k0_cond2 i = 1#1), ∀ a, (k0_off385 v1477) a + S8x128.size a ≤ S131072x128.size a)
theorem k0_mult187_dvd : ∀ (i : grid0.Coords) (v1477 : BitVec 32) (k0_hw94 : k0_chk94 i v1477), ∀ (k0_h2 : k0_cond2 i = 1#1), 8 ∣ (k0_mult187 v1477).toNat := fun i v1477 k0_hw94 k0_h2 => k0_hw94.1 k0_h2
theorem k0_off385_inb : ∀ (i : grid0.Coords) (v1477 : BitVec 32) (k0_hw94 : k0_chk94 i v1477), ∀ (k0_h2 : k0_cond2 i = 1#1), ∀ a, (k0_off385 v1477) a + S8x128.size a ≤ S131072x128.size a := fun i v1477 k0_hw94 k0_h2 => k0_hw94.2 k0_h2

def k0_off386 (i : grid0.Coords) : Fin 3 → Nat :=
  let c0_888 : Index := 0#32
  let c0_889 : Index := 0#32
  let arg1 : BitVec 32 := BitVec.ofNat 32 (i 1).val
  let c2_i32_884 : BitVec 32 := 2#32
  let v1486 : BitVec 32 := Scalar.muli arg1 c2_i32_884
  let c0_i32_885 : BitVec 32 := 0#32
  let v1487 : BitVec 32 := Scalar.addi v1486 c0_i32_885
  let c256_i32_886 : BitVec 32 := 256#32
  let v1488 : BitVec 32 := Scalar.muli v1487 c256_i32_886
  let c93_i32 : BitVec 32 := 93#32
  let v1489 : BitVec 32 := Scalar.addi v1488 c93_i32
  let v1491 : Index := Scalar.indexCast v1489
  ![0, 0, v1491.toNat]
def k0_mult189 (v1492 : BitVec 32) : BitVec 32 :=
  v1492

def k0_mult190 (i : grid0.Coords) : BitVec 32 :=
  let arg1 : BitVec 32 := BitVec.ofNat 32 (i 1).val
  let c2_i32_884 : BitVec 32 := 2#32
  let v1486 : BitVec 32 := Scalar.muli arg1 c2_i32_884
  let c0_i32_885 : BitVec 32 := 0#32
  let v1487 : BitVec 32 := Scalar.addi v1486 c0_i32_885
  let c256_i32_886 : BitVec 32 := 256#32
  let v1488 : BitVec 32 := Scalar.muli v1487 c256_i32_886
  let c93_i32 : BitVec 32 := 93#32
  let v1489 : BitVec 32 := Scalar.addi v1488 c93_i32
  let c8_i32_890 : BitVec 32 := 8#32
  let v1494 : BitVec 32 := Scalar.muli v1489 c8_i32_890
  v1494
def k0_off387 (i : grid0.Coords) : Fin 1 → Nat :=
  let c1_i32_887 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1490 : BitVec 32 := Scalar.subi c1_i32_887 v9
  ![v1490.toNat]
def k0_off388 (i : grid0.Coords) : Fin 3 → Nat :=
  let c1_i32_887 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1490 : BitVec 32 := Scalar.subi c1_i32_887 v9
  let arg1 : BitVec 32 := BitVec.ofNat 32 (i 1).val
  let c2_i32_884 : BitVec 32 := 2#32
  let v1486 : BitVec 32 := Scalar.muli arg1 c2_i32_884
  let c0_i32_885 : BitVec 32 := 0#32
  let v1487 : BitVec 32 := Scalar.addi v1486 c0_i32_885
  let c256_i32_886 : BitVec 32 := 256#32
  let v1488 : BitVec 32 := Scalar.muli v1487 c256_i32_886
  let c93_i32 : BitVec 32 := 93#32
  let v1489 : BitVec 32 := Scalar.addi v1488 c93_i32
  let c8_i32_890 : BitVec 32 := 8#32
  let v1494 : BitVec 32 := Scalar.muli v1489 c8_i32_890
  let v1495 : BitVec 32 := v1494
  let c0_i32_891 : BitVec 32 := 0#32
  ![v1490.toNat, v1495.toNat, 0]
def k0_off389 (v1492 : BitVec 32) : Fin 2 → Nat :=
  let v1493 : BitVec 32 := v1492
  let c0_i32_892 : BitVec 32 := 0#32
  ![v1493.toNat, 0]

def k0_chk95 (i : grid0.Coords) (v1492 : BitVec 32) : Prop :=
  (∀ (k0_h2 : k0_cond2 i = 1#1), 8 ∣ (k0_mult189 v1492).toNat) ∧
  (∀ (k0_h2 : k0_cond2 i = 1#1), ∀ a, (k0_off389 v1492) a + S8x128.size a ≤ S131072x128.size a)
theorem k0_mult189_dvd : ∀ (i : grid0.Coords) (v1492 : BitVec 32) (k0_hw95 : k0_chk95 i v1492), ∀ (k0_h2 : k0_cond2 i = 1#1), 8 ∣ (k0_mult189 v1492).toNat := fun i v1492 k0_hw95 k0_h2 => k0_hw95.1 k0_h2
theorem k0_off389_inb : ∀ (i : grid0.Coords) (v1492 : BitVec 32) (k0_hw95 : k0_chk95 i v1492), ∀ (k0_h2 : k0_cond2 i = 1#1), ∀ a, (k0_off389 v1492) a + S8x128.size a ≤ S131072x128.size a := fun i v1492 k0_hw95 k0_h2 => k0_hw95.2 k0_h2

def k0_off390 (i : grid0.Coords) : Fin 3 → Nat :=
  let c0_897 : Index := 0#32
  let c0_898 : Index := 0#32
  let arg1 : BitVec 32 := BitVec.ofNat 32 (i 1).val
  let c2_i32_893 : BitVec 32 := 2#32
  let v1501 : BitVec 32 := Scalar.muli arg1 c2_i32_893
  let c0_i32_894 : BitVec 32 := 0#32
  let v1502 : BitVec 32 := Scalar.addi v1501 c0_i32_894
  let c256_i32_895 : BitVec 32 := 256#32
  let v1503 : BitVec 32 := Scalar.muli v1502 c256_i32_895
  let c94_i32 : BitVec 32 := 94#32
  let v1504 : BitVec 32 := Scalar.addi v1503 c94_i32
  let v1506 : Index := Scalar.indexCast v1504
  ![0, 0, v1506.toNat]
def k0_mult191 (v1507 : BitVec 32) : BitVec 32 :=
  v1507

def k0_mult192 (i : grid0.Coords) : BitVec 32 :=
  let arg1 : BitVec 32 := BitVec.ofNat 32 (i 1).val
  let c2_i32_893 : BitVec 32 := 2#32
  let v1501 : BitVec 32 := Scalar.muli arg1 c2_i32_893
  let c0_i32_894 : BitVec 32 := 0#32
  let v1502 : BitVec 32 := Scalar.addi v1501 c0_i32_894
  let c256_i32_895 : BitVec 32 := 256#32
  let v1503 : BitVec 32 := Scalar.muli v1502 c256_i32_895
  let c94_i32 : BitVec 32 := 94#32
  let v1504 : BitVec 32 := Scalar.addi v1503 c94_i32
  let c8_i32_899 : BitVec 32 := 8#32
  let v1509 : BitVec 32 := Scalar.muli v1504 c8_i32_899
  v1509
def k0_off391 (i : grid0.Coords) : Fin 1 → Nat :=
  let c1_i32_896 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1505 : BitVec 32 := Scalar.subi c1_i32_896 v9
  ![v1505.toNat]
def k0_off392 (i : grid0.Coords) : Fin 3 → Nat :=
  let c1_i32_896 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1505 : BitVec 32 := Scalar.subi c1_i32_896 v9
  let arg1 : BitVec 32 := BitVec.ofNat 32 (i 1).val
  let c2_i32_893 : BitVec 32 := 2#32
  let v1501 : BitVec 32 := Scalar.muli arg1 c2_i32_893
  let c0_i32_894 : BitVec 32 := 0#32
  let v1502 : BitVec 32 := Scalar.addi v1501 c0_i32_894
  let c256_i32_895 : BitVec 32 := 256#32
  let v1503 : BitVec 32 := Scalar.muli v1502 c256_i32_895
  let c94_i32 : BitVec 32 := 94#32
  let v1504 : BitVec 32 := Scalar.addi v1503 c94_i32
  let c8_i32_899 : BitVec 32 := 8#32
  let v1509 : BitVec 32 := Scalar.muli v1504 c8_i32_899
  let v1510 : BitVec 32 := v1509
  let c0_i32_900 : BitVec 32 := 0#32
  ![v1505.toNat, v1510.toNat, 0]
def k0_off393 (v1507 : BitVec 32) : Fin 2 → Nat :=
  let v1508 : BitVec 32 := v1507
  let c0_i32_901 : BitVec 32 := 0#32
  ![v1508.toNat, 0]

def k0_chk96 (i : grid0.Coords) (v1507 : BitVec 32) : Prop :=
  (∀ (k0_h2 : k0_cond2 i = 1#1), 8 ∣ (k0_mult191 v1507).toNat) ∧
  (∀ (k0_h2 : k0_cond2 i = 1#1), ∀ a, (k0_off393 v1507) a + S8x128.size a ≤ S131072x128.size a)
theorem k0_mult191_dvd : ∀ (i : grid0.Coords) (v1507 : BitVec 32) (k0_hw96 : k0_chk96 i v1507), ∀ (k0_h2 : k0_cond2 i = 1#1), 8 ∣ (k0_mult191 v1507).toNat := fun i v1507 k0_hw96 k0_h2 => k0_hw96.1 k0_h2
theorem k0_off393_inb : ∀ (i : grid0.Coords) (v1507 : BitVec 32) (k0_hw96 : k0_chk96 i v1507), ∀ (k0_h2 : k0_cond2 i = 1#1), ∀ a, (k0_off393 v1507) a + S8x128.size a ≤ S131072x128.size a := fun i v1507 k0_hw96 k0_h2 => k0_hw96.2 k0_h2

def k0_off394 (i : grid0.Coords) : Fin 3 → Nat :=
  let c0_906 : Index := 0#32
  let c0_907 : Index := 0#32
  let arg1 : BitVec 32 := BitVec.ofNat 32 (i 1).val
  let c2_i32_902 : BitVec 32 := 2#32
  let v1516 : BitVec 32 := Scalar.muli arg1 c2_i32_902
  let c0_i32_903 : BitVec 32 := 0#32
  let v1517 : BitVec 32 := Scalar.addi v1516 c0_i32_903
  let c256_i32_904 : BitVec 32 := 256#32
  let v1518 : BitVec 32 := Scalar.muli v1517 c256_i32_904
  let c95_i32 : BitVec 32 := 95#32
  let v1519 : BitVec 32 := Scalar.addi v1518 c95_i32
  let v1521 : Index := Scalar.indexCast v1519
  ![0, 0, v1521.toNat]
def k0_mult193 (v1522 : BitVec 32) : BitVec 32 :=
  v1522

def k0_mult194 (i : grid0.Coords) : BitVec 32 :=
  let arg1 : BitVec 32 := BitVec.ofNat 32 (i 1).val
  let c2_i32_902 : BitVec 32 := 2#32
  let v1516 : BitVec 32 := Scalar.muli arg1 c2_i32_902
  let c0_i32_903 : BitVec 32 := 0#32
  let v1517 : BitVec 32 := Scalar.addi v1516 c0_i32_903
  let c256_i32_904 : BitVec 32 := 256#32
  let v1518 : BitVec 32 := Scalar.muli v1517 c256_i32_904
  let c95_i32 : BitVec 32 := 95#32
  let v1519 : BitVec 32 := Scalar.addi v1518 c95_i32
  let c8_i32_908 : BitVec 32 := 8#32
  let v1524 : BitVec 32 := Scalar.muli v1519 c8_i32_908
  v1524
def k0_off395 (i : grid0.Coords) : Fin 1 → Nat :=
  let c1_i32_905 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1520 : BitVec 32 := Scalar.subi c1_i32_905 v9
  ![v1520.toNat]
def k0_off396 (i : grid0.Coords) : Fin 3 → Nat :=
  let c1_i32_905 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1520 : BitVec 32 := Scalar.subi c1_i32_905 v9
  let arg1 : BitVec 32 := BitVec.ofNat 32 (i 1).val
  let c2_i32_902 : BitVec 32 := 2#32
  let v1516 : BitVec 32 := Scalar.muli arg1 c2_i32_902
  let c0_i32_903 : BitVec 32 := 0#32
  let v1517 : BitVec 32 := Scalar.addi v1516 c0_i32_903
  let c256_i32_904 : BitVec 32 := 256#32
  let v1518 : BitVec 32 := Scalar.muli v1517 c256_i32_904
  let c95_i32 : BitVec 32 := 95#32
  let v1519 : BitVec 32 := Scalar.addi v1518 c95_i32
  let c8_i32_908 : BitVec 32 := 8#32
  let v1524 : BitVec 32 := Scalar.muli v1519 c8_i32_908
  let v1525 : BitVec 32 := v1524
  let c0_i32_909 : BitVec 32 := 0#32
  ![v1520.toNat, v1525.toNat, 0]
def k0_off397 (v1522 : BitVec 32) : Fin 2 → Nat :=
  let v1523 : BitVec 32 := v1522
  let c0_i32_910 : BitVec 32 := 0#32
  ![v1523.toNat, 0]

def k0_chk97 (i : grid0.Coords) (v1522 : BitVec 32) : Prop :=
  (∀ (k0_h2 : k0_cond2 i = 1#1), 8 ∣ (k0_mult193 v1522).toNat) ∧
  (∀ (k0_h2 : k0_cond2 i = 1#1), ∀ a, (k0_off397 v1522) a + S8x128.size a ≤ S131072x128.size a)
theorem k0_mult193_dvd : ∀ (i : grid0.Coords) (v1522 : BitVec 32) (k0_hw97 : k0_chk97 i v1522), ∀ (k0_h2 : k0_cond2 i = 1#1), 8 ∣ (k0_mult193 v1522).toNat := fun i v1522 k0_hw97 k0_h2 => k0_hw97.1 k0_h2
theorem k0_off397_inb : ∀ (i : grid0.Coords) (v1522 : BitVec 32) (k0_hw97 : k0_chk97 i v1522), ∀ (k0_h2 : k0_cond2 i = 1#1), ∀ a, (k0_off397 v1522) a + S8x128.size a ≤ S131072x128.size a := fun i v1522 k0_hw97 k0_h2 => k0_hw97.2 k0_h2

def k0_off398 (i : grid0.Coords) : Fin 3 → Nat :=
  let c0_915 : Index := 0#32
  let c0_916 : Index := 0#32
  let arg1 : BitVec 32 := BitVec.ofNat 32 (i 1).val
  let c2_i32_911 : BitVec 32 := 2#32
  let v1531 : BitVec 32 := Scalar.muli arg1 c2_i32_911
  let c0_i32_912 : BitVec 32 := 0#32
  let v1532 : BitVec 32 := Scalar.addi v1531 c0_i32_912
  let c256_i32_913 : BitVec 32 := 256#32
  let v1533 : BitVec 32 := Scalar.muli v1532 c256_i32_913
  let c96_i32 : BitVec 32 := 96#32
  let v1534 : BitVec 32 := Scalar.addi v1533 c96_i32
  let v1536 : Index := Scalar.indexCast v1534
  ![0, 0, v1536.toNat]
def k0_mult195 (v1537 : BitVec 32) : BitVec 32 :=
  v1537

def k0_mult196 (i : grid0.Coords) : BitVec 32 :=
  let arg1 : BitVec 32 := BitVec.ofNat 32 (i 1).val
  let c2_i32_911 : BitVec 32 := 2#32
  let v1531 : BitVec 32 := Scalar.muli arg1 c2_i32_911
  let c0_i32_912 : BitVec 32 := 0#32
  let v1532 : BitVec 32 := Scalar.addi v1531 c0_i32_912
  let c256_i32_913 : BitVec 32 := 256#32
  let v1533 : BitVec 32 := Scalar.muli v1532 c256_i32_913
  let c96_i32 : BitVec 32 := 96#32
  let v1534 : BitVec 32 := Scalar.addi v1533 c96_i32
  let c8_i32_917 : BitVec 32 := 8#32
  let v1539 : BitVec 32 := Scalar.muli v1534 c8_i32_917
  v1539
def k0_off399 (i : grid0.Coords) : Fin 1 → Nat :=
  let c1_i32_914 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1535 : BitVec 32 := Scalar.subi c1_i32_914 v9
  ![v1535.toNat]
def k0_off400 (i : grid0.Coords) : Fin 3 → Nat :=
  let c1_i32_914 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1535 : BitVec 32 := Scalar.subi c1_i32_914 v9
  let arg1 : BitVec 32 := BitVec.ofNat 32 (i 1).val
  let c2_i32_911 : BitVec 32 := 2#32
  let v1531 : BitVec 32 := Scalar.muli arg1 c2_i32_911
  let c0_i32_912 : BitVec 32 := 0#32
  let v1532 : BitVec 32 := Scalar.addi v1531 c0_i32_912
  let c256_i32_913 : BitVec 32 := 256#32
  let v1533 : BitVec 32 := Scalar.muli v1532 c256_i32_913
  let c96_i32 : BitVec 32 := 96#32
  let v1534 : BitVec 32 := Scalar.addi v1533 c96_i32
  let c8_i32_917 : BitVec 32 := 8#32
  let v1539 : BitVec 32 := Scalar.muli v1534 c8_i32_917
  let v1540 : BitVec 32 := v1539
  let c0_i32_918 : BitVec 32 := 0#32
  ![v1535.toNat, v1540.toNat, 0]
def k0_off401 (v1537 : BitVec 32) : Fin 2 → Nat :=
  let v1538 : BitVec 32 := v1537
  let c0_i32_919 : BitVec 32 := 0#32
  ![v1538.toNat, 0]

def k0_chk98 (i : grid0.Coords) (v1537 : BitVec 32) : Prop :=
  (∀ (k0_h2 : k0_cond2 i = 1#1), 8 ∣ (k0_mult195 v1537).toNat) ∧
  (∀ (k0_h2 : k0_cond2 i = 1#1), ∀ a, (k0_off401 v1537) a + S8x128.size a ≤ S131072x128.size a)
theorem k0_mult195_dvd : ∀ (i : grid0.Coords) (v1537 : BitVec 32) (k0_hw98 : k0_chk98 i v1537), ∀ (k0_h2 : k0_cond2 i = 1#1), 8 ∣ (k0_mult195 v1537).toNat := fun i v1537 k0_hw98 k0_h2 => k0_hw98.1 k0_h2
theorem k0_off401_inb : ∀ (i : grid0.Coords) (v1537 : BitVec 32) (k0_hw98 : k0_chk98 i v1537), ∀ (k0_h2 : k0_cond2 i = 1#1), ∀ a, (k0_off401 v1537) a + S8x128.size a ≤ S131072x128.size a := fun i v1537 k0_hw98 k0_h2 => k0_hw98.2 k0_h2

def k0_off402 (i : grid0.Coords) : Fin 3 → Nat :=
  let c0_924 : Index := 0#32
  let c0_925 : Index := 0#32
  let arg1 : BitVec 32 := BitVec.ofNat 32 (i 1).val
  let c2_i32_920 : BitVec 32 := 2#32
  let v1546 : BitVec 32 := Scalar.muli arg1 c2_i32_920
  let c0_i32_921 : BitVec 32 := 0#32
  let v1547 : BitVec 32 := Scalar.addi v1546 c0_i32_921
  let c256_i32_922 : BitVec 32 := 256#32
  let v1548 : BitVec 32 := Scalar.muli v1547 c256_i32_922
  let c97_i32 : BitVec 32 := 97#32
  let v1549 : BitVec 32 := Scalar.addi v1548 c97_i32
  let v1551 : Index := Scalar.indexCast v1549
  ![0, 0, v1551.toNat]
def k0_mult197 (v1552 : BitVec 32) : BitVec 32 :=
  v1552

def k0_mult198 (i : grid0.Coords) : BitVec 32 :=
  let arg1 : BitVec 32 := BitVec.ofNat 32 (i 1).val
  let c2_i32_920 : BitVec 32 := 2#32
  let v1546 : BitVec 32 := Scalar.muli arg1 c2_i32_920
  let c0_i32_921 : BitVec 32 := 0#32
  let v1547 : BitVec 32 := Scalar.addi v1546 c0_i32_921
  let c256_i32_922 : BitVec 32 := 256#32
  let v1548 : BitVec 32 := Scalar.muli v1547 c256_i32_922
  let c97_i32 : BitVec 32 := 97#32
  let v1549 : BitVec 32 := Scalar.addi v1548 c97_i32
  let c8_i32_926 : BitVec 32 := 8#32
  let v1554 : BitVec 32 := Scalar.muli v1549 c8_i32_926
  v1554
def k0_off403 (i : grid0.Coords) : Fin 1 → Nat :=
  let c1_i32_923 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1550 : BitVec 32 := Scalar.subi c1_i32_923 v9
  ![v1550.toNat]
def k0_off404 (i : grid0.Coords) : Fin 3 → Nat :=
  let c1_i32_923 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1550 : BitVec 32 := Scalar.subi c1_i32_923 v9
  let arg1 : BitVec 32 := BitVec.ofNat 32 (i 1).val
  let c2_i32_920 : BitVec 32 := 2#32
  let v1546 : BitVec 32 := Scalar.muli arg1 c2_i32_920
  let c0_i32_921 : BitVec 32 := 0#32
  let v1547 : BitVec 32 := Scalar.addi v1546 c0_i32_921
  let c256_i32_922 : BitVec 32 := 256#32
  let v1548 : BitVec 32 := Scalar.muli v1547 c256_i32_922
  let c97_i32 : BitVec 32 := 97#32
  let v1549 : BitVec 32 := Scalar.addi v1548 c97_i32
  let c8_i32_926 : BitVec 32 := 8#32
  let v1554 : BitVec 32 := Scalar.muli v1549 c8_i32_926
  let v1555 : BitVec 32 := v1554
  let c0_i32_927 : BitVec 32 := 0#32
  ![v1550.toNat, v1555.toNat, 0]
def k0_off405 (v1552 : BitVec 32) : Fin 2 → Nat :=
  let v1553 : BitVec 32 := v1552
  let c0_i32_928 : BitVec 32 := 0#32
  ![v1553.toNat, 0]

def k0_chk99 (i : grid0.Coords) (v1552 : BitVec 32) : Prop :=
  (∀ (k0_h2 : k0_cond2 i = 1#1), 8 ∣ (k0_mult197 v1552).toNat) ∧
  (∀ (k0_h2 : k0_cond2 i = 1#1), ∀ a, (k0_off405 v1552) a + S8x128.size a ≤ S131072x128.size a)
theorem k0_mult197_dvd : ∀ (i : grid0.Coords) (v1552 : BitVec 32) (k0_hw99 : k0_chk99 i v1552), ∀ (k0_h2 : k0_cond2 i = 1#1), 8 ∣ (k0_mult197 v1552).toNat := fun i v1552 k0_hw99 k0_h2 => k0_hw99.1 k0_h2
theorem k0_off405_inb : ∀ (i : grid0.Coords) (v1552 : BitVec 32) (k0_hw99 : k0_chk99 i v1552), ∀ (k0_h2 : k0_cond2 i = 1#1), ∀ a, (k0_off405 v1552) a + S8x128.size a ≤ S131072x128.size a := fun i v1552 k0_hw99 k0_h2 => k0_hw99.2 k0_h2

def k0_off406 (i : grid0.Coords) : Fin 3 → Nat :=
  let c0_933 : Index := 0#32
  let c0_934 : Index := 0#32
  let arg1 : BitVec 32 := BitVec.ofNat 32 (i 1).val
  let c2_i32_929 : BitVec 32 := 2#32
  let v1561 : BitVec 32 := Scalar.muli arg1 c2_i32_929
  let c0_i32_930 : BitVec 32 := 0#32
  let v1562 : BitVec 32 := Scalar.addi v1561 c0_i32_930
  let c256_i32_931 : BitVec 32 := 256#32
  let v1563 : BitVec 32 := Scalar.muli v1562 c256_i32_931
  let c98_i32 : BitVec 32 := 98#32
  let v1564 : BitVec 32 := Scalar.addi v1563 c98_i32
  let v1566 : Index := Scalar.indexCast v1564
  ![0, 0, v1566.toNat]
def k0_mult199 (v1567 : BitVec 32) : BitVec 32 :=
  v1567

def k0_mult200 (i : grid0.Coords) : BitVec 32 :=
  let arg1 : BitVec 32 := BitVec.ofNat 32 (i 1).val
  let c2_i32_929 : BitVec 32 := 2#32
  let v1561 : BitVec 32 := Scalar.muli arg1 c2_i32_929
  let c0_i32_930 : BitVec 32 := 0#32
  let v1562 : BitVec 32 := Scalar.addi v1561 c0_i32_930
  let c256_i32_931 : BitVec 32 := 256#32
  let v1563 : BitVec 32 := Scalar.muli v1562 c256_i32_931
  let c98_i32 : BitVec 32 := 98#32
  let v1564 : BitVec 32 := Scalar.addi v1563 c98_i32
  let c8_i32_935 : BitVec 32 := 8#32
  let v1569 : BitVec 32 := Scalar.muli v1564 c8_i32_935
  v1569
def k0_off407 (i : grid0.Coords) : Fin 1 → Nat :=
  let c1_i32_932 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1565 : BitVec 32 := Scalar.subi c1_i32_932 v9
  ![v1565.toNat]
def k0_off408 (i : grid0.Coords) : Fin 3 → Nat :=
  let c1_i32_932 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1565 : BitVec 32 := Scalar.subi c1_i32_932 v9
  let arg1 : BitVec 32 := BitVec.ofNat 32 (i 1).val
  let c2_i32_929 : BitVec 32 := 2#32
  let v1561 : BitVec 32 := Scalar.muli arg1 c2_i32_929
  let c0_i32_930 : BitVec 32 := 0#32
  let v1562 : BitVec 32 := Scalar.addi v1561 c0_i32_930
  let c256_i32_931 : BitVec 32 := 256#32
  let v1563 : BitVec 32 := Scalar.muli v1562 c256_i32_931
  let c98_i32 : BitVec 32 := 98#32
  let v1564 : BitVec 32 := Scalar.addi v1563 c98_i32
  let c8_i32_935 : BitVec 32 := 8#32
  let v1569 : BitVec 32 := Scalar.muli v1564 c8_i32_935
  let v1570 : BitVec 32 := v1569
  let c0_i32_936 : BitVec 32 := 0#32
  ![v1565.toNat, v1570.toNat, 0]
def k0_off409 (v1567 : BitVec 32) : Fin 2 → Nat :=
  let v1568 : BitVec 32 := v1567
  let c0_i32_937 : BitVec 32 := 0#32
  ![v1568.toNat, 0]

def k0_chk100 (i : grid0.Coords) (v1567 : BitVec 32) : Prop :=
  (∀ (k0_h2 : k0_cond2 i = 1#1), 8 ∣ (k0_mult199 v1567).toNat) ∧
  (∀ (k0_h2 : k0_cond2 i = 1#1), ∀ a, (k0_off409 v1567) a + S8x128.size a ≤ S131072x128.size a)
theorem k0_mult199_dvd : ∀ (i : grid0.Coords) (v1567 : BitVec 32) (k0_hw100 : k0_chk100 i v1567), ∀ (k0_h2 : k0_cond2 i = 1#1), 8 ∣ (k0_mult199 v1567).toNat := fun i v1567 k0_hw100 k0_h2 => k0_hw100.1 k0_h2
theorem k0_off409_inb : ∀ (i : grid0.Coords) (v1567 : BitVec 32) (k0_hw100 : k0_chk100 i v1567), ∀ (k0_h2 : k0_cond2 i = 1#1), ∀ a, (k0_off409 v1567) a + S8x128.size a ≤ S131072x128.size a := fun i v1567 k0_hw100 k0_h2 => k0_hw100.2 k0_h2

def k0_off410 (i : grid0.Coords) : Fin 3 → Nat :=
  let c0_942 : Index := 0#32
  let c0_943 : Index := 0#32
  let arg1 : BitVec 32 := BitVec.ofNat 32 (i 1).val
  let c2_i32_938 : BitVec 32 := 2#32
  let v1576 : BitVec 32 := Scalar.muli arg1 c2_i32_938
  let c0_i32_939 : BitVec 32 := 0#32
  let v1577 : BitVec 32 := Scalar.addi v1576 c0_i32_939
  let c256_i32_940 : BitVec 32 := 256#32
  let v1578 : BitVec 32 := Scalar.muli v1577 c256_i32_940
  let c99_i32 : BitVec 32 := 99#32
  let v1579 : BitVec 32 := Scalar.addi v1578 c99_i32
  let v1581 : Index := Scalar.indexCast v1579
  ![0, 0, v1581.toNat]
def k0_mult201 (v1582 : BitVec 32) : BitVec 32 :=
  v1582

def k0_mult202 (i : grid0.Coords) : BitVec 32 :=
  let arg1 : BitVec 32 := BitVec.ofNat 32 (i 1).val
  let c2_i32_938 : BitVec 32 := 2#32
  let v1576 : BitVec 32 := Scalar.muli arg1 c2_i32_938
  let c0_i32_939 : BitVec 32 := 0#32
  let v1577 : BitVec 32 := Scalar.addi v1576 c0_i32_939
  let c256_i32_940 : BitVec 32 := 256#32
  let v1578 : BitVec 32 := Scalar.muli v1577 c256_i32_940
  let c99_i32 : BitVec 32 := 99#32
  let v1579 : BitVec 32 := Scalar.addi v1578 c99_i32
  let c8_i32_944 : BitVec 32 := 8#32
  let v1584 : BitVec 32 := Scalar.muli v1579 c8_i32_944
  v1584
def k0_off411 (i : grid0.Coords) : Fin 1 → Nat :=
  let c1_i32_941 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1580 : BitVec 32 := Scalar.subi c1_i32_941 v9
  ![v1580.toNat]
def k0_off412 (i : grid0.Coords) : Fin 3 → Nat :=
  let c1_i32_941 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1580 : BitVec 32 := Scalar.subi c1_i32_941 v9
  let arg1 : BitVec 32 := BitVec.ofNat 32 (i 1).val
  let c2_i32_938 : BitVec 32 := 2#32
  let v1576 : BitVec 32 := Scalar.muli arg1 c2_i32_938
  let c0_i32_939 : BitVec 32 := 0#32
  let v1577 : BitVec 32 := Scalar.addi v1576 c0_i32_939
  let c256_i32_940 : BitVec 32 := 256#32
  let v1578 : BitVec 32 := Scalar.muli v1577 c256_i32_940
  let c99_i32 : BitVec 32 := 99#32
  let v1579 : BitVec 32 := Scalar.addi v1578 c99_i32
  let c8_i32_944 : BitVec 32 := 8#32
  let v1584 : BitVec 32 := Scalar.muli v1579 c8_i32_944
  let v1585 : BitVec 32 := v1584
  let c0_i32_945 : BitVec 32 := 0#32
  ![v1580.toNat, v1585.toNat, 0]
def k0_off413 (v1582 : BitVec 32) : Fin 2 → Nat :=
  let v1583 : BitVec 32 := v1582
  let c0_i32_946 : BitVec 32 := 0#32
  ![v1583.toNat, 0]

def k0_chk101 (i : grid0.Coords) (v1582 : BitVec 32) : Prop :=
  (∀ (k0_h2 : k0_cond2 i = 1#1), 8 ∣ (k0_mult201 v1582).toNat) ∧
  (∀ (k0_h2 : k0_cond2 i = 1#1), ∀ a, (k0_off413 v1582) a + S8x128.size a ≤ S131072x128.size a)
theorem k0_mult201_dvd : ∀ (i : grid0.Coords) (v1582 : BitVec 32) (k0_hw101 : k0_chk101 i v1582), ∀ (k0_h2 : k0_cond2 i = 1#1), 8 ∣ (k0_mult201 v1582).toNat := fun i v1582 k0_hw101 k0_h2 => k0_hw101.1 k0_h2
theorem k0_off413_inb : ∀ (i : grid0.Coords) (v1582 : BitVec 32) (k0_hw101 : k0_chk101 i v1582), ∀ (k0_h2 : k0_cond2 i = 1#1), ∀ a, (k0_off413 v1582) a + S8x128.size a ≤ S131072x128.size a := fun i v1582 k0_hw101 k0_h2 => k0_hw101.2 k0_h2

def k0_off414 (i : grid0.Coords) : Fin 3 → Nat :=
  let c0_951 : Index := 0#32
  let c0_952 : Index := 0#32
  let arg1 : BitVec 32 := BitVec.ofNat 32 (i 1).val
  let c2_i32_947 : BitVec 32 := 2#32
  let v1591 : BitVec 32 := Scalar.muli arg1 c2_i32_947
  let c0_i32_948 : BitVec 32 := 0#32
  let v1592 : BitVec 32 := Scalar.addi v1591 c0_i32_948
  let c256_i32_949 : BitVec 32 := 256#32
  let v1593 : BitVec 32 := Scalar.muli v1592 c256_i32_949
  let c100_i32 : BitVec 32 := 100#32
  let v1594 : BitVec 32 := Scalar.addi v1593 c100_i32
  let v1596 : Index := Scalar.indexCast v1594
  ![0, 0, v1596.toNat]
def k0_mult203 (v1597 : BitVec 32) : BitVec 32 :=
  v1597

def k0_mult204 (i : grid0.Coords) : BitVec 32 :=
  let arg1 : BitVec 32 := BitVec.ofNat 32 (i 1).val
  let c2_i32_947 : BitVec 32 := 2#32
  let v1591 : BitVec 32 := Scalar.muli arg1 c2_i32_947
  let c0_i32_948 : BitVec 32 := 0#32
  let v1592 : BitVec 32 := Scalar.addi v1591 c0_i32_948
  let c256_i32_949 : BitVec 32 := 256#32
  let v1593 : BitVec 32 := Scalar.muli v1592 c256_i32_949
  let c100_i32 : BitVec 32 := 100#32
  let v1594 : BitVec 32 := Scalar.addi v1593 c100_i32
  let c8_i32_953 : BitVec 32 := 8#32
  let v1599 : BitVec 32 := Scalar.muli v1594 c8_i32_953
  v1599
def k0_off415 (i : grid0.Coords) : Fin 1 → Nat :=
  let c1_i32_950 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1595 : BitVec 32 := Scalar.subi c1_i32_950 v9
  ![v1595.toNat]
def k0_off416 (i : grid0.Coords) : Fin 3 → Nat :=
  let c1_i32_950 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1595 : BitVec 32 := Scalar.subi c1_i32_950 v9
  let arg1 : BitVec 32 := BitVec.ofNat 32 (i 1).val
  let c2_i32_947 : BitVec 32 := 2#32
  let v1591 : BitVec 32 := Scalar.muli arg1 c2_i32_947
  let c0_i32_948 : BitVec 32 := 0#32
  let v1592 : BitVec 32 := Scalar.addi v1591 c0_i32_948
  let c256_i32_949 : BitVec 32 := 256#32
  let v1593 : BitVec 32 := Scalar.muli v1592 c256_i32_949
  let c100_i32 : BitVec 32 := 100#32
  let v1594 : BitVec 32 := Scalar.addi v1593 c100_i32
  let c8_i32_953 : BitVec 32 := 8#32
  let v1599 : BitVec 32 := Scalar.muli v1594 c8_i32_953
  let v1600 : BitVec 32 := v1599
  let c0_i32_954 : BitVec 32 := 0#32
  ![v1595.toNat, v1600.toNat, 0]
def k0_off417 (v1597 : BitVec 32) : Fin 2 → Nat :=
  let v1598 : BitVec 32 := v1597
  let c0_i32_955 : BitVec 32 := 0#32
  ![v1598.toNat, 0]

def k0_chk102 (i : grid0.Coords) (v1597 : BitVec 32) : Prop :=
  (∀ (k0_h2 : k0_cond2 i = 1#1), 8 ∣ (k0_mult203 v1597).toNat) ∧
  (∀ (k0_h2 : k0_cond2 i = 1#1), ∀ a, (k0_off417 v1597) a + S8x128.size a ≤ S131072x128.size a)
theorem k0_mult203_dvd : ∀ (i : grid0.Coords) (v1597 : BitVec 32) (k0_hw102 : k0_chk102 i v1597), ∀ (k0_h2 : k0_cond2 i = 1#1), 8 ∣ (k0_mult203 v1597).toNat := fun i v1597 k0_hw102 k0_h2 => k0_hw102.1 k0_h2
theorem k0_off417_inb : ∀ (i : grid0.Coords) (v1597 : BitVec 32) (k0_hw102 : k0_chk102 i v1597), ∀ (k0_h2 : k0_cond2 i = 1#1), ∀ a, (k0_off417 v1597) a + S8x128.size a ≤ S131072x128.size a := fun i v1597 k0_hw102 k0_h2 => k0_hw102.2 k0_h2

def k0_off418 (i : grid0.Coords) : Fin 3 → Nat :=
  let c0_960 : Index := 0#32
  let c0_961 : Index := 0#32
  let arg1 : BitVec 32 := BitVec.ofNat 32 (i 1).val
  let c2_i32_956 : BitVec 32 := 2#32
  let v1606 : BitVec 32 := Scalar.muli arg1 c2_i32_956
  let c0_i32_957 : BitVec 32 := 0#32
  let v1607 : BitVec 32 := Scalar.addi v1606 c0_i32_957
  let c256_i32_958 : BitVec 32 := 256#32
  let v1608 : BitVec 32 := Scalar.muli v1607 c256_i32_958
  let c101_i32 : BitVec 32 := 101#32
  let v1609 : BitVec 32 := Scalar.addi v1608 c101_i32
  let v1611 : Index := Scalar.indexCast v1609
  ![0, 0, v1611.toNat]
def k0_mult205 (v1612 : BitVec 32) : BitVec 32 :=
  v1612

def k0_mult206 (i : grid0.Coords) : BitVec 32 :=
  let arg1 : BitVec 32 := BitVec.ofNat 32 (i 1).val
  let c2_i32_956 : BitVec 32 := 2#32
  let v1606 : BitVec 32 := Scalar.muli arg1 c2_i32_956
  let c0_i32_957 : BitVec 32 := 0#32
  let v1607 : BitVec 32 := Scalar.addi v1606 c0_i32_957
  let c256_i32_958 : BitVec 32 := 256#32
  let v1608 : BitVec 32 := Scalar.muli v1607 c256_i32_958
  let c101_i32 : BitVec 32 := 101#32
  let v1609 : BitVec 32 := Scalar.addi v1608 c101_i32
  let c8_i32_962 : BitVec 32 := 8#32
  let v1614 : BitVec 32 := Scalar.muli v1609 c8_i32_962
  v1614
def k0_off419 (i : grid0.Coords) : Fin 1 → Nat :=
  let c1_i32_959 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1610 : BitVec 32 := Scalar.subi c1_i32_959 v9
  ![v1610.toNat]
def k0_off420 (i : grid0.Coords) : Fin 3 → Nat :=
  let c1_i32_959 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1610 : BitVec 32 := Scalar.subi c1_i32_959 v9
  let arg1 : BitVec 32 := BitVec.ofNat 32 (i 1).val
  let c2_i32_956 : BitVec 32 := 2#32
  let v1606 : BitVec 32 := Scalar.muli arg1 c2_i32_956
  let c0_i32_957 : BitVec 32 := 0#32
  let v1607 : BitVec 32 := Scalar.addi v1606 c0_i32_957
  let c256_i32_958 : BitVec 32 := 256#32
  let v1608 : BitVec 32 := Scalar.muli v1607 c256_i32_958
  let c101_i32 : BitVec 32 := 101#32
  let v1609 : BitVec 32 := Scalar.addi v1608 c101_i32
  let c8_i32_962 : BitVec 32 := 8#32
  let v1614 : BitVec 32 := Scalar.muli v1609 c8_i32_962
  let v1615 : BitVec 32 := v1614
  let c0_i32_963 : BitVec 32 := 0#32
  ![v1610.toNat, v1615.toNat, 0]
def k0_off421 (v1612 : BitVec 32) : Fin 2 → Nat :=
  let v1613 : BitVec 32 := v1612
  let c0_i32_964 : BitVec 32 := 0#32
  ![v1613.toNat, 0]

def k0_chk103 (i : grid0.Coords) (v1612 : BitVec 32) : Prop :=
  (∀ (k0_h2 : k0_cond2 i = 1#1), 8 ∣ (k0_mult205 v1612).toNat) ∧
  (∀ (k0_h2 : k0_cond2 i = 1#1), ∀ a, (k0_off421 v1612) a + S8x128.size a ≤ S131072x128.size a)
theorem k0_mult205_dvd : ∀ (i : grid0.Coords) (v1612 : BitVec 32) (k0_hw103 : k0_chk103 i v1612), ∀ (k0_h2 : k0_cond2 i = 1#1), 8 ∣ (k0_mult205 v1612).toNat := fun i v1612 k0_hw103 k0_h2 => k0_hw103.1 k0_h2
theorem k0_off421_inb : ∀ (i : grid0.Coords) (v1612 : BitVec 32) (k0_hw103 : k0_chk103 i v1612), ∀ (k0_h2 : k0_cond2 i = 1#1), ∀ a, (k0_off421 v1612) a + S8x128.size a ≤ S131072x128.size a := fun i v1612 k0_hw103 k0_h2 => k0_hw103.2 k0_h2

def k0_off422 (i : grid0.Coords) : Fin 3 → Nat :=
  let c0_969 : Index := 0#32
  let c0_970 : Index := 0#32
  let arg1 : BitVec 32 := BitVec.ofNat 32 (i 1).val
  let c2_i32_965 : BitVec 32 := 2#32
  let v1621 : BitVec 32 := Scalar.muli arg1 c2_i32_965
  let c0_i32_966 : BitVec 32 := 0#32
  let v1622 : BitVec 32 := Scalar.addi v1621 c0_i32_966
  let c256_i32_967 : BitVec 32 := 256#32
  let v1623 : BitVec 32 := Scalar.muli v1622 c256_i32_967
  let c102_i32 : BitVec 32 := 102#32
  let v1624 : BitVec 32 := Scalar.addi v1623 c102_i32
  let v1626 : Index := Scalar.indexCast v1624
  ![0, 0, v1626.toNat]
def k0_mult207 (v1627 : BitVec 32) : BitVec 32 :=
  v1627

def k0_mult208 (i : grid0.Coords) : BitVec 32 :=
  let arg1 : BitVec 32 := BitVec.ofNat 32 (i 1).val
  let c2_i32_965 : BitVec 32 := 2#32
  let v1621 : BitVec 32 := Scalar.muli arg1 c2_i32_965
  let c0_i32_966 : BitVec 32 := 0#32
  let v1622 : BitVec 32 := Scalar.addi v1621 c0_i32_966
  let c256_i32_967 : BitVec 32 := 256#32
  let v1623 : BitVec 32 := Scalar.muli v1622 c256_i32_967
  let c102_i32 : BitVec 32 := 102#32
  let v1624 : BitVec 32 := Scalar.addi v1623 c102_i32
  let c8_i32_971 : BitVec 32 := 8#32
  let v1629 : BitVec 32 := Scalar.muli v1624 c8_i32_971
  v1629
def k0_off423 (i : grid0.Coords) : Fin 1 → Nat :=
  let c1_i32_968 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1625 : BitVec 32 := Scalar.subi c1_i32_968 v9
  ![v1625.toNat]
def k0_off424 (i : grid0.Coords) : Fin 3 → Nat :=
  let c1_i32_968 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1625 : BitVec 32 := Scalar.subi c1_i32_968 v9
  let arg1 : BitVec 32 := BitVec.ofNat 32 (i 1).val
  let c2_i32_965 : BitVec 32 := 2#32
  let v1621 : BitVec 32 := Scalar.muli arg1 c2_i32_965
  let c0_i32_966 : BitVec 32 := 0#32
  let v1622 : BitVec 32 := Scalar.addi v1621 c0_i32_966
  let c256_i32_967 : BitVec 32 := 256#32
  let v1623 : BitVec 32 := Scalar.muli v1622 c256_i32_967
  let c102_i32 : BitVec 32 := 102#32
  let v1624 : BitVec 32 := Scalar.addi v1623 c102_i32
  let c8_i32_971 : BitVec 32 := 8#32
  let v1629 : BitVec 32 := Scalar.muli v1624 c8_i32_971
  let v1630 : BitVec 32 := v1629
  let c0_i32_972 : BitVec 32 := 0#32
  ![v1625.toNat, v1630.toNat, 0]
def k0_off425 (v1627 : BitVec 32) : Fin 2 → Nat :=
  let v1628 : BitVec 32 := v1627
  let c0_i32_973 : BitVec 32 := 0#32
  ![v1628.toNat, 0]

def k0_chk104 (i : grid0.Coords) (v1627 : BitVec 32) : Prop :=
  (∀ (k0_h2 : k0_cond2 i = 1#1), 8 ∣ (k0_mult207 v1627).toNat) ∧
  (∀ (k0_h2 : k0_cond2 i = 1#1), ∀ a, (k0_off425 v1627) a + S8x128.size a ≤ S131072x128.size a)
theorem k0_mult207_dvd : ∀ (i : grid0.Coords) (v1627 : BitVec 32) (k0_hw104 : k0_chk104 i v1627), ∀ (k0_h2 : k0_cond2 i = 1#1), 8 ∣ (k0_mult207 v1627).toNat := fun i v1627 k0_hw104 k0_h2 => k0_hw104.1 k0_h2
theorem k0_off425_inb : ∀ (i : grid0.Coords) (v1627 : BitVec 32) (k0_hw104 : k0_chk104 i v1627), ∀ (k0_h2 : k0_cond2 i = 1#1), ∀ a, (k0_off425 v1627) a + S8x128.size a ≤ S131072x128.size a := fun i v1627 k0_hw104 k0_h2 => k0_hw104.2 k0_h2

def k0_off426 (i : grid0.Coords) : Fin 3 → Nat :=
  let c0_978 : Index := 0#32
  let c0_979 : Index := 0#32
  let arg1 : BitVec 32 := BitVec.ofNat 32 (i 1).val
  let c2_i32_974 : BitVec 32 := 2#32
  let v1636 : BitVec 32 := Scalar.muli arg1 c2_i32_974
  let c0_i32_975 : BitVec 32 := 0#32
  let v1637 : BitVec 32 := Scalar.addi v1636 c0_i32_975
  let c256_i32_976 : BitVec 32 := 256#32
  let v1638 : BitVec 32 := Scalar.muli v1637 c256_i32_976
  let c103_i32 : BitVec 32 := 103#32
  let v1639 : BitVec 32 := Scalar.addi v1638 c103_i32
  let v1641 : Index := Scalar.indexCast v1639
  ![0, 0, v1641.toNat]
def k0_mult209 (v1642 : BitVec 32) : BitVec 32 :=
  v1642

def k0_mult210 (i : grid0.Coords) : BitVec 32 :=
  let arg1 : BitVec 32 := BitVec.ofNat 32 (i 1).val
  let c2_i32_974 : BitVec 32 := 2#32
  let v1636 : BitVec 32 := Scalar.muli arg1 c2_i32_974
  let c0_i32_975 : BitVec 32 := 0#32
  let v1637 : BitVec 32 := Scalar.addi v1636 c0_i32_975
  let c256_i32_976 : BitVec 32 := 256#32
  let v1638 : BitVec 32 := Scalar.muli v1637 c256_i32_976
  let c103_i32 : BitVec 32 := 103#32
  let v1639 : BitVec 32 := Scalar.addi v1638 c103_i32
  let c8_i32_980 : BitVec 32 := 8#32
  let v1644 : BitVec 32 := Scalar.muli v1639 c8_i32_980
  v1644
def k0_off427 (i : grid0.Coords) : Fin 1 → Nat :=
  let c1_i32_977 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1640 : BitVec 32 := Scalar.subi c1_i32_977 v9
  ![v1640.toNat]
def k0_off428 (i : grid0.Coords) : Fin 3 → Nat :=
  let c1_i32_977 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1640 : BitVec 32 := Scalar.subi c1_i32_977 v9
  let arg1 : BitVec 32 := BitVec.ofNat 32 (i 1).val
  let c2_i32_974 : BitVec 32 := 2#32
  let v1636 : BitVec 32 := Scalar.muli arg1 c2_i32_974
  let c0_i32_975 : BitVec 32 := 0#32
  let v1637 : BitVec 32 := Scalar.addi v1636 c0_i32_975
  let c256_i32_976 : BitVec 32 := 256#32
  let v1638 : BitVec 32 := Scalar.muli v1637 c256_i32_976
  let c103_i32 : BitVec 32 := 103#32
  let v1639 : BitVec 32 := Scalar.addi v1638 c103_i32
  let c8_i32_980 : BitVec 32 := 8#32
  let v1644 : BitVec 32 := Scalar.muli v1639 c8_i32_980
  let v1645 : BitVec 32 := v1644
  let c0_i32_981 : BitVec 32 := 0#32
  ![v1640.toNat, v1645.toNat, 0]
def k0_off429 (v1642 : BitVec 32) : Fin 2 → Nat :=
  let v1643 : BitVec 32 := v1642
  let c0_i32_982 : BitVec 32 := 0#32
  ![v1643.toNat, 0]

def k0_chk105 (i : grid0.Coords) (v1642 : BitVec 32) : Prop :=
  (∀ (k0_h2 : k0_cond2 i = 1#1), 8 ∣ (k0_mult209 v1642).toNat) ∧
  (∀ (k0_h2 : k0_cond2 i = 1#1), ∀ a, (k0_off429 v1642) a + S8x128.size a ≤ S131072x128.size a)
theorem k0_mult209_dvd : ∀ (i : grid0.Coords) (v1642 : BitVec 32) (k0_hw105 : k0_chk105 i v1642), ∀ (k0_h2 : k0_cond2 i = 1#1), 8 ∣ (k0_mult209 v1642).toNat := fun i v1642 k0_hw105 k0_h2 => k0_hw105.1 k0_h2
theorem k0_off429_inb : ∀ (i : grid0.Coords) (v1642 : BitVec 32) (k0_hw105 : k0_chk105 i v1642), ∀ (k0_h2 : k0_cond2 i = 1#1), ∀ a, (k0_off429 v1642) a + S8x128.size a ≤ S131072x128.size a := fun i v1642 k0_hw105 k0_h2 => k0_hw105.2 k0_h2

def k0_off430 (i : grid0.Coords) : Fin 3 → Nat :=
  let c0_987 : Index := 0#32
  let c0_988 : Index := 0#32
  let arg1 : BitVec 32 := BitVec.ofNat 32 (i 1).val
  let c2_i32_983 : BitVec 32 := 2#32
  let v1651 : BitVec 32 := Scalar.muli arg1 c2_i32_983
  let c0_i32_984 : BitVec 32 := 0#32
  let v1652 : BitVec 32 := Scalar.addi v1651 c0_i32_984
  let c256_i32_985 : BitVec 32 := 256#32
  let v1653 : BitVec 32 := Scalar.muli v1652 c256_i32_985
  let c104_i32 : BitVec 32 := 104#32
  let v1654 : BitVec 32 := Scalar.addi v1653 c104_i32
  let v1656 : Index := Scalar.indexCast v1654
  ![0, 0, v1656.toNat]
def k0_mult211 (v1657 : BitVec 32) : BitVec 32 :=
  v1657

def k0_mult212 (i : grid0.Coords) : BitVec 32 :=
  let arg1 : BitVec 32 := BitVec.ofNat 32 (i 1).val
  let c2_i32_983 : BitVec 32 := 2#32
  let v1651 : BitVec 32 := Scalar.muli arg1 c2_i32_983
  let c0_i32_984 : BitVec 32 := 0#32
  let v1652 : BitVec 32 := Scalar.addi v1651 c0_i32_984
  let c256_i32_985 : BitVec 32 := 256#32
  let v1653 : BitVec 32 := Scalar.muli v1652 c256_i32_985
  let c104_i32 : BitVec 32 := 104#32
  let v1654 : BitVec 32 := Scalar.addi v1653 c104_i32
  let c8_i32_989 : BitVec 32 := 8#32
  let v1659 : BitVec 32 := Scalar.muli v1654 c8_i32_989
  v1659
def k0_off431 (i : grid0.Coords) : Fin 1 → Nat :=
  let c1_i32_986 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1655 : BitVec 32 := Scalar.subi c1_i32_986 v9
  ![v1655.toNat]
def k0_off432 (i : grid0.Coords) : Fin 3 → Nat :=
  let c1_i32_986 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1655 : BitVec 32 := Scalar.subi c1_i32_986 v9
  let arg1 : BitVec 32 := BitVec.ofNat 32 (i 1).val
  let c2_i32_983 : BitVec 32 := 2#32
  let v1651 : BitVec 32 := Scalar.muli arg1 c2_i32_983
  let c0_i32_984 : BitVec 32 := 0#32
  let v1652 : BitVec 32 := Scalar.addi v1651 c0_i32_984
  let c256_i32_985 : BitVec 32 := 256#32
  let v1653 : BitVec 32 := Scalar.muli v1652 c256_i32_985
  let c104_i32 : BitVec 32 := 104#32
  let v1654 : BitVec 32 := Scalar.addi v1653 c104_i32
  let c8_i32_989 : BitVec 32 := 8#32
  let v1659 : BitVec 32 := Scalar.muli v1654 c8_i32_989
  let v1660 : BitVec 32 := v1659
  let c0_i32_990 : BitVec 32 := 0#32
  ![v1655.toNat, v1660.toNat, 0]
def k0_off433 (v1657 : BitVec 32) : Fin 2 → Nat :=
  let v1658 : BitVec 32 := v1657
  let c0_i32_991 : BitVec 32 := 0#32
  ![v1658.toNat, 0]

def k0_chk106 (i : grid0.Coords) (v1657 : BitVec 32) : Prop :=
  (∀ (k0_h2 : k0_cond2 i = 1#1), 8 ∣ (k0_mult211 v1657).toNat) ∧
  (∀ (k0_h2 : k0_cond2 i = 1#1), ∀ a, (k0_off433 v1657) a + S8x128.size a ≤ S131072x128.size a)
theorem k0_mult211_dvd : ∀ (i : grid0.Coords) (v1657 : BitVec 32) (k0_hw106 : k0_chk106 i v1657), ∀ (k0_h2 : k0_cond2 i = 1#1), 8 ∣ (k0_mult211 v1657).toNat := fun i v1657 k0_hw106 k0_h2 => k0_hw106.1 k0_h2
theorem k0_off433_inb : ∀ (i : grid0.Coords) (v1657 : BitVec 32) (k0_hw106 : k0_chk106 i v1657), ∀ (k0_h2 : k0_cond2 i = 1#1), ∀ a, (k0_off433 v1657) a + S8x128.size a ≤ S131072x128.size a := fun i v1657 k0_hw106 k0_h2 => k0_hw106.2 k0_h2

def k0_off434 (i : grid0.Coords) : Fin 3 → Nat :=
  let c0_996 : Index := 0#32
  let c0_997 : Index := 0#32
  let arg1 : BitVec 32 := BitVec.ofNat 32 (i 1).val
  let c2_i32_992 : BitVec 32 := 2#32
  let v1666 : BitVec 32 := Scalar.muli arg1 c2_i32_992
  let c0_i32_993 : BitVec 32 := 0#32
  let v1667 : BitVec 32 := Scalar.addi v1666 c0_i32_993
  let c256_i32_994 : BitVec 32 := 256#32
  let v1668 : BitVec 32 := Scalar.muli v1667 c256_i32_994
  let c105_i32 : BitVec 32 := 105#32
  let v1669 : BitVec 32 := Scalar.addi v1668 c105_i32
  let v1671 : Index := Scalar.indexCast v1669
  ![0, 0, v1671.toNat]
def k0_mult213 (v1672 : BitVec 32) : BitVec 32 :=
  v1672

def k0_mult214 (i : grid0.Coords) : BitVec 32 :=
  let arg1 : BitVec 32 := BitVec.ofNat 32 (i 1).val
  let c2_i32_992 : BitVec 32 := 2#32
  let v1666 : BitVec 32 := Scalar.muli arg1 c2_i32_992
  let c0_i32_993 : BitVec 32 := 0#32
  let v1667 : BitVec 32 := Scalar.addi v1666 c0_i32_993
  let c256_i32_994 : BitVec 32 := 256#32
  let v1668 : BitVec 32 := Scalar.muli v1667 c256_i32_994
  let c105_i32 : BitVec 32 := 105#32
  let v1669 : BitVec 32 := Scalar.addi v1668 c105_i32
  let c8_i32_998 : BitVec 32 := 8#32
  let v1674 : BitVec 32 := Scalar.muli v1669 c8_i32_998
  v1674
def k0_off435 (i : grid0.Coords) : Fin 1 → Nat :=
  let c1_i32_995 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1670 : BitVec 32 := Scalar.subi c1_i32_995 v9
  ![v1670.toNat]
def k0_off436 (i : grid0.Coords) : Fin 3 → Nat :=
  let c1_i32_995 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1670 : BitVec 32 := Scalar.subi c1_i32_995 v9
  let arg1 : BitVec 32 := BitVec.ofNat 32 (i 1).val
  let c2_i32_992 : BitVec 32 := 2#32
  let v1666 : BitVec 32 := Scalar.muli arg1 c2_i32_992
  let c0_i32_993 : BitVec 32 := 0#32
  let v1667 : BitVec 32 := Scalar.addi v1666 c0_i32_993
  let c256_i32_994 : BitVec 32 := 256#32
  let v1668 : BitVec 32 := Scalar.muli v1667 c256_i32_994
  let c105_i32 : BitVec 32 := 105#32
  let v1669 : BitVec 32 := Scalar.addi v1668 c105_i32
  let c8_i32_998 : BitVec 32 := 8#32
  let v1674 : BitVec 32 := Scalar.muli v1669 c8_i32_998
  let v1675 : BitVec 32 := v1674
  let c0_i32_999 : BitVec 32 := 0#32
  ![v1670.toNat, v1675.toNat, 0]
def k0_off437 (v1672 : BitVec 32) : Fin 2 → Nat :=
  let v1673 : BitVec 32 := v1672
  let c0_i32_1000 : BitVec 32 := 0#32
  ![v1673.toNat, 0]

def k0_chk107 (i : grid0.Coords) (v1672 : BitVec 32) : Prop :=
  (∀ (k0_h2 : k0_cond2 i = 1#1), 8 ∣ (k0_mult213 v1672).toNat) ∧
  (∀ (k0_h2 : k0_cond2 i = 1#1), ∀ a, (k0_off437 v1672) a + S8x128.size a ≤ S131072x128.size a)
theorem k0_mult213_dvd : ∀ (i : grid0.Coords) (v1672 : BitVec 32) (k0_hw107 : k0_chk107 i v1672), ∀ (k0_h2 : k0_cond2 i = 1#1), 8 ∣ (k0_mult213 v1672).toNat := fun i v1672 k0_hw107 k0_h2 => k0_hw107.1 k0_h2
theorem k0_off437_inb : ∀ (i : grid0.Coords) (v1672 : BitVec 32) (k0_hw107 : k0_chk107 i v1672), ∀ (k0_h2 : k0_cond2 i = 1#1), ∀ a, (k0_off437 v1672) a + S8x128.size a ≤ S131072x128.size a := fun i v1672 k0_hw107 k0_h2 => k0_hw107.2 k0_h2

def k0_off438 (i : grid0.Coords) : Fin 3 → Nat :=
  let c0_1005 : Index := 0#32
  let c0_1006 : Index := 0#32
  let arg1 : BitVec 32 := BitVec.ofNat 32 (i 1).val
  let c2_i32_1001 : BitVec 32 := 2#32
  let v1681 : BitVec 32 := Scalar.muli arg1 c2_i32_1001
  let c0_i32_1002 : BitVec 32 := 0#32
  let v1682 : BitVec 32 := Scalar.addi v1681 c0_i32_1002
  let c256_i32_1003 : BitVec 32 := 256#32
  let v1683 : BitVec 32 := Scalar.muli v1682 c256_i32_1003
  let c106_i32 : BitVec 32 := 106#32
  let v1684 : BitVec 32 := Scalar.addi v1683 c106_i32
  let v1686 : Index := Scalar.indexCast v1684
  ![0, 0, v1686.toNat]
def k0_mult215 (v1687 : BitVec 32) : BitVec 32 :=
  v1687

def k0_mult216 (i : grid0.Coords) : BitVec 32 :=
  let arg1 : BitVec 32 := BitVec.ofNat 32 (i 1).val
  let c2_i32_1001 : BitVec 32 := 2#32
  let v1681 : BitVec 32 := Scalar.muli arg1 c2_i32_1001
  let c0_i32_1002 : BitVec 32 := 0#32
  let v1682 : BitVec 32 := Scalar.addi v1681 c0_i32_1002
  let c256_i32_1003 : BitVec 32 := 256#32
  let v1683 : BitVec 32 := Scalar.muli v1682 c256_i32_1003
  let c106_i32 : BitVec 32 := 106#32
  let v1684 : BitVec 32 := Scalar.addi v1683 c106_i32
  let c8_i32_1007 : BitVec 32 := 8#32
  let v1689 : BitVec 32 := Scalar.muli v1684 c8_i32_1007
  v1689
def k0_off439 (i : grid0.Coords) : Fin 1 → Nat :=
  let c1_i32_1004 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1685 : BitVec 32 := Scalar.subi c1_i32_1004 v9
  ![v1685.toNat]
def k0_off440 (i : grid0.Coords) : Fin 3 → Nat :=
  let c1_i32_1004 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1685 : BitVec 32 := Scalar.subi c1_i32_1004 v9
  let arg1 : BitVec 32 := BitVec.ofNat 32 (i 1).val
  let c2_i32_1001 : BitVec 32 := 2#32
  let v1681 : BitVec 32 := Scalar.muli arg1 c2_i32_1001
  let c0_i32_1002 : BitVec 32 := 0#32
  let v1682 : BitVec 32 := Scalar.addi v1681 c0_i32_1002
  let c256_i32_1003 : BitVec 32 := 256#32
  let v1683 : BitVec 32 := Scalar.muli v1682 c256_i32_1003
  let c106_i32 : BitVec 32 := 106#32
  let v1684 : BitVec 32 := Scalar.addi v1683 c106_i32
  let c8_i32_1007 : BitVec 32 := 8#32
  let v1689 : BitVec 32 := Scalar.muli v1684 c8_i32_1007
  let v1690 : BitVec 32 := v1689
  let c0_i32_1008 : BitVec 32 := 0#32
  ![v1685.toNat, v1690.toNat, 0]
def k0_off441 (v1687 : BitVec 32) : Fin 2 → Nat :=
  let v1688 : BitVec 32 := v1687
  let c0_i32_1009 : BitVec 32 := 0#32
  ![v1688.toNat, 0]

def k0_chk108 (i : grid0.Coords) (v1687 : BitVec 32) : Prop :=
  (∀ (k0_h2 : k0_cond2 i = 1#1), 8 ∣ (k0_mult215 v1687).toNat) ∧
  (∀ (k0_h2 : k0_cond2 i = 1#1), ∀ a, (k0_off441 v1687) a + S8x128.size a ≤ S131072x128.size a)
theorem k0_mult215_dvd : ∀ (i : grid0.Coords) (v1687 : BitVec 32) (k0_hw108 : k0_chk108 i v1687), ∀ (k0_h2 : k0_cond2 i = 1#1), 8 ∣ (k0_mult215 v1687).toNat := fun i v1687 k0_hw108 k0_h2 => k0_hw108.1 k0_h2
theorem k0_off441_inb : ∀ (i : grid0.Coords) (v1687 : BitVec 32) (k0_hw108 : k0_chk108 i v1687), ∀ (k0_h2 : k0_cond2 i = 1#1), ∀ a, (k0_off441 v1687) a + S8x128.size a ≤ S131072x128.size a := fun i v1687 k0_hw108 k0_h2 => k0_hw108.2 k0_h2

def k0_off442 (i : grid0.Coords) : Fin 3 → Nat :=
  let c0_1014 : Index := 0#32
  let c0_1015 : Index := 0#32
  let arg1 : BitVec 32 := BitVec.ofNat 32 (i 1).val
  let c2_i32_1010 : BitVec 32 := 2#32
  let v1696 : BitVec 32 := Scalar.muli arg1 c2_i32_1010
  let c0_i32_1011 : BitVec 32 := 0#32
  let v1697 : BitVec 32 := Scalar.addi v1696 c0_i32_1011
  let c256_i32_1012 : BitVec 32 := 256#32
  let v1698 : BitVec 32 := Scalar.muli v1697 c256_i32_1012
  let c107_i32 : BitVec 32 := 107#32
  let v1699 : BitVec 32 := Scalar.addi v1698 c107_i32
  let v1701 : Index := Scalar.indexCast v1699
  ![0, 0, v1701.toNat]
def k0_mult217 (v1702 : BitVec 32) : BitVec 32 :=
  v1702

def k0_mult218 (i : grid0.Coords) : BitVec 32 :=
  let arg1 : BitVec 32 := BitVec.ofNat 32 (i 1).val
  let c2_i32_1010 : BitVec 32 := 2#32
  let v1696 : BitVec 32 := Scalar.muli arg1 c2_i32_1010
  let c0_i32_1011 : BitVec 32 := 0#32
  let v1697 : BitVec 32 := Scalar.addi v1696 c0_i32_1011
  let c256_i32_1012 : BitVec 32 := 256#32
  let v1698 : BitVec 32 := Scalar.muli v1697 c256_i32_1012
  let c107_i32 : BitVec 32 := 107#32
  let v1699 : BitVec 32 := Scalar.addi v1698 c107_i32
  let c8_i32_1016 : BitVec 32 := 8#32
  let v1704 : BitVec 32 := Scalar.muli v1699 c8_i32_1016
  v1704
def k0_off443 (i : grid0.Coords) : Fin 1 → Nat :=
  let c1_i32_1013 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1700 : BitVec 32 := Scalar.subi c1_i32_1013 v9
  ![v1700.toNat]
def k0_off444 (i : grid0.Coords) : Fin 3 → Nat :=
  let c1_i32_1013 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1700 : BitVec 32 := Scalar.subi c1_i32_1013 v9
  let arg1 : BitVec 32 := BitVec.ofNat 32 (i 1).val
  let c2_i32_1010 : BitVec 32 := 2#32
  let v1696 : BitVec 32 := Scalar.muli arg1 c2_i32_1010
  let c0_i32_1011 : BitVec 32 := 0#32
  let v1697 : BitVec 32 := Scalar.addi v1696 c0_i32_1011
  let c256_i32_1012 : BitVec 32 := 256#32
  let v1698 : BitVec 32 := Scalar.muli v1697 c256_i32_1012
  let c107_i32 : BitVec 32 := 107#32
  let v1699 : BitVec 32 := Scalar.addi v1698 c107_i32
  let c8_i32_1016 : BitVec 32 := 8#32
  let v1704 : BitVec 32 := Scalar.muli v1699 c8_i32_1016
  let v1705 : BitVec 32 := v1704
  let c0_i32_1017 : BitVec 32 := 0#32
  ![v1700.toNat, v1705.toNat, 0]
def k0_off445 (v1702 : BitVec 32) : Fin 2 → Nat :=
  let v1703 : BitVec 32 := v1702
  let c0_i32_1018 : BitVec 32 := 0#32
  ![v1703.toNat, 0]

def k0_chk109 (i : grid0.Coords) (v1702 : BitVec 32) : Prop :=
  (∀ (k0_h2 : k0_cond2 i = 1#1), 8 ∣ (k0_mult217 v1702).toNat) ∧
  (∀ (k0_h2 : k0_cond2 i = 1#1), ∀ a, (k0_off445 v1702) a + S8x128.size a ≤ S131072x128.size a)
theorem k0_mult217_dvd : ∀ (i : grid0.Coords) (v1702 : BitVec 32) (k0_hw109 : k0_chk109 i v1702), ∀ (k0_h2 : k0_cond2 i = 1#1), 8 ∣ (k0_mult217 v1702).toNat := fun i v1702 k0_hw109 k0_h2 => k0_hw109.1 k0_h2
theorem k0_off445_inb : ∀ (i : grid0.Coords) (v1702 : BitVec 32) (k0_hw109 : k0_chk109 i v1702), ∀ (k0_h2 : k0_cond2 i = 1#1), ∀ a, (k0_off445 v1702) a + S8x128.size a ≤ S131072x128.size a := fun i v1702 k0_hw109 k0_h2 => k0_hw109.2 k0_h2

def k0_off446 (i : grid0.Coords) : Fin 3 → Nat :=
  let c0_1023 : Index := 0#32
  let c0_1024 : Index := 0#32
  let arg1 : BitVec 32 := BitVec.ofNat 32 (i 1).val
  let c2_i32_1019 : BitVec 32 := 2#32
  let v1711 : BitVec 32 := Scalar.muli arg1 c2_i32_1019
  let c0_i32_1020 : BitVec 32 := 0#32
  let v1712 : BitVec 32 := Scalar.addi v1711 c0_i32_1020
  let c256_i32_1021 : BitVec 32 := 256#32
  let v1713 : BitVec 32 := Scalar.muli v1712 c256_i32_1021
  let c108_i32 : BitVec 32 := 108#32
  let v1714 : BitVec 32 := Scalar.addi v1713 c108_i32
  let v1716 : Index := Scalar.indexCast v1714
  ![0, 0, v1716.toNat]
def k0_mult219 (v1717 : BitVec 32) : BitVec 32 :=
  v1717

def k0_mult220 (i : grid0.Coords) : BitVec 32 :=
  let arg1 : BitVec 32 := BitVec.ofNat 32 (i 1).val
  let c2_i32_1019 : BitVec 32 := 2#32
  let v1711 : BitVec 32 := Scalar.muli arg1 c2_i32_1019
  let c0_i32_1020 : BitVec 32 := 0#32
  let v1712 : BitVec 32 := Scalar.addi v1711 c0_i32_1020
  let c256_i32_1021 : BitVec 32 := 256#32
  let v1713 : BitVec 32 := Scalar.muli v1712 c256_i32_1021
  let c108_i32 : BitVec 32 := 108#32
  let v1714 : BitVec 32 := Scalar.addi v1713 c108_i32
  let c8_i32_1025 : BitVec 32 := 8#32
  let v1719 : BitVec 32 := Scalar.muli v1714 c8_i32_1025
  v1719
def k0_off447 (i : grid0.Coords) : Fin 1 → Nat :=
  let c1_i32_1022 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1715 : BitVec 32 := Scalar.subi c1_i32_1022 v9
  ![v1715.toNat]
def k0_off448 (i : grid0.Coords) : Fin 3 → Nat :=
  let c1_i32_1022 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1715 : BitVec 32 := Scalar.subi c1_i32_1022 v9
  let arg1 : BitVec 32 := BitVec.ofNat 32 (i 1).val
  let c2_i32_1019 : BitVec 32 := 2#32
  let v1711 : BitVec 32 := Scalar.muli arg1 c2_i32_1019
  let c0_i32_1020 : BitVec 32 := 0#32
  let v1712 : BitVec 32 := Scalar.addi v1711 c0_i32_1020
  let c256_i32_1021 : BitVec 32 := 256#32
  let v1713 : BitVec 32 := Scalar.muli v1712 c256_i32_1021
  let c108_i32 : BitVec 32 := 108#32
  let v1714 : BitVec 32 := Scalar.addi v1713 c108_i32
  let c8_i32_1025 : BitVec 32 := 8#32
  let v1719 : BitVec 32 := Scalar.muli v1714 c8_i32_1025
  let v1720 : BitVec 32 := v1719
  let c0_i32_1026 : BitVec 32 := 0#32
  ![v1715.toNat, v1720.toNat, 0]
def k0_off449 (v1717 : BitVec 32) : Fin 2 → Nat :=
  let v1718 : BitVec 32 := v1717
  let c0_i32_1027 : BitVec 32 := 0#32
  ![v1718.toNat, 0]

def k0_chk110 (i : grid0.Coords) (v1717 : BitVec 32) : Prop :=
  (∀ (k0_h2 : k0_cond2 i = 1#1), 8 ∣ (k0_mult219 v1717).toNat) ∧
  (∀ (k0_h2 : k0_cond2 i = 1#1), ∀ a, (k0_off449 v1717) a + S8x128.size a ≤ S131072x128.size a)
theorem k0_mult219_dvd : ∀ (i : grid0.Coords) (v1717 : BitVec 32) (k0_hw110 : k0_chk110 i v1717), ∀ (k0_h2 : k0_cond2 i = 1#1), 8 ∣ (k0_mult219 v1717).toNat := fun i v1717 k0_hw110 k0_h2 => k0_hw110.1 k0_h2
theorem k0_off449_inb : ∀ (i : grid0.Coords) (v1717 : BitVec 32) (k0_hw110 : k0_chk110 i v1717), ∀ (k0_h2 : k0_cond2 i = 1#1), ∀ a, (k0_off449 v1717) a + S8x128.size a ≤ S131072x128.size a := fun i v1717 k0_hw110 k0_h2 => k0_hw110.2 k0_h2

def k0_off450 (i : grid0.Coords) : Fin 3 → Nat :=
  let c0_1032 : Index := 0#32
  let c0_1033 : Index := 0#32
  let arg1 : BitVec 32 := BitVec.ofNat 32 (i 1).val
  let c2_i32_1028 : BitVec 32 := 2#32
  let v1726 : BitVec 32 := Scalar.muli arg1 c2_i32_1028
  let c0_i32_1029 : BitVec 32 := 0#32
  let v1727 : BitVec 32 := Scalar.addi v1726 c0_i32_1029
  let c256_i32_1030 : BitVec 32 := 256#32
  let v1728 : BitVec 32 := Scalar.muli v1727 c256_i32_1030
  let c109_i32 : BitVec 32 := 109#32
  let v1729 : BitVec 32 := Scalar.addi v1728 c109_i32
  let v1731 : Index := Scalar.indexCast v1729
  ![0, 0, v1731.toNat]
def k0_mult221 (v1732 : BitVec 32) : BitVec 32 :=
  v1732

def k0_mult222 (i : grid0.Coords) : BitVec 32 :=
  let arg1 : BitVec 32 := BitVec.ofNat 32 (i 1).val
  let c2_i32_1028 : BitVec 32 := 2#32
  let v1726 : BitVec 32 := Scalar.muli arg1 c2_i32_1028
  let c0_i32_1029 : BitVec 32 := 0#32
  let v1727 : BitVec 32 := Scalar.addi v1726 c0_i32_1029
  let c256_i32_1030 : BitVec 32 := 256#32
  let v1728 : BitVec 32 := Scalar.muli v1727 c256_i32_1030
  let c109_i32 : BitVec 32 := 109#32
  let v1729 : BitVec 32 := Scalar.addi v1728 c109_i32
  let c8_i32_1034 : BitVec 32 := 8#32
  let v1734 : BitVec 32 := Scalar.muli v1729 c8_i32_1034
  v1734
def k0_off451 (i : grid0.Coords) : Fin 1 → Nat :=
  let c1_i32_1031 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1730 : BitVec 32 := Scalar.subi c1_i32_1031 v9
  ![v1730.toNat]
def k0_off452 (i : grid0.Coords) : Fin 3 → Nat :=
  let c1_i32_1031 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1730 : BitVec 32 := Scalar.subi c1_i32_1031 v9
  let arg1 : BitVec 32 := BitVec.ofNat 32 (i 1).val
  let c2_i32_1028 : BitVec 32 := 2#32
  let v1726 : BitVec 32 := Scalar.muli arg1 c2_i32_1028
  let c0_i32_1029 : BitVec 32 := 0#32
  let v1727 : BitVec 32 := Scalar.addi v1726 c0_i32_1029
  let c256_i32_1030 : BitVec 32 := 256#32
  let v1728 : BitVec 32 := Scalar.muli v1727 c256_i32_1030
  let c109_i32 : BitVec 32 := 109#32
  let v1729 : BitVec 32 := Scalar.addi v1728 c109_i32
  let c8_i32_1034 : BitVec 32 := 8#32
  let v1734 : BitVec 32 := Scalar.muli v1729 c8_i32_1034
  let v1735 : BitVec 32 := v1734
  let c0_i32_1035 : BitVec 32 := 0#32
  ![v1730.toNat, v1735.toNat, 0]
def k0_off453 (v1732 : BitVec 32) : Fin 2 → Nat :=
  let v1733 : BitVec 32 := v1732
  let c0_i32_1036 : BitVec 32 := 0#32
  ![v1733.toNat, 0]

def k0_chk111 (i : grid0.Coords) (v1732 : BitVec 32) : Prop :=
  (∀ (k0_h2 : k0_cond2 i = 1#1), 8 ∣ (k0_mult221 v1732).toNat) ∧
  (∀ (k0_h2 : k0_cond2 i = 1#1), ∀ a, (k0_off453 v1732) a + S8x128.size a ≤ S131072x128.size a)
theorem k0_mult221_dvd : ∀ (i : grid0.Coords) (v1732 : BitVec 32) (k0_hw111 : k0_chk111 i v1732), ∀ (k0_h2 : k0_cond2 i = 1#1), 8 ∣ (k0_mult221 v1732).toNat := fun i v1732 k0_hw111 k0_h2 => k0_hw111.1 k0_h2
theorem k0_off453_inb : ∀ (i : grid0.Coords) (v1732 : BitVec 32) (k0_hw111 : k0_chk111 i v1732), ∀ (k0_h2 : k0_cond2 i = 1#1), ∀ a, (k0_off453 v1732) a + S8x128.size a ≤ S131072x128.size a := fun i v1732 k0_hw111 k0_h2 => k0_hw111.2 k0_h2

def k0_off454 (i : grid0.Coords) : Fin 3 → Nat :=
  let c0_1041 : Index := 0#32
  let c0_1042 : Index := 0#32
  let arg1 : BitVec 32 := BitVec.ofNat 32 (i 1).val
  let c2_i32_1037 : BitVec 32 := 2#32
  let v1741 : BitVec 32 := Scalar.muli arg1 c2_i32_1037
  let c0_i32_1038 : BitVec 32 := 0#32
  let v1742 : BitVec 32 := Scalar.addi v1741 c0_i32_1038
  let c256_i32_1039 : BitVec 32 := 256#32
  let v1743 : BitVec 32 := Scalar.muli v1742 c256_i32_1039
  let c110_i32 : BitVec 32 := 110#32
  let v1744 : BitVec 32 := Scalar.addi v1743 c110_i32
  let v1746 : Index := Scalar.indexCast v1744
  ![0, 0, v1746.toNat]
def k0_mult223 (v1747 : BitVec 32) : BitVec 32 :=
  v1747

def k0_mult224 (i : grid0.Coords) : BitVec 32 :=
  let arg1 : BitVec 32 := BitVec.ofNat 32 (i 1).val
  let c2_i32_1037 : BitVec 32 := 2#32
  let v1741 : BitVec 32 := Scalar.muli arg1 c2_i32_1037
  let c0_i32_1038 : BitVec 32 := 0#32
  let v1742 : BitVec 32 := Scalar.addi v1741 c0_i32_1038
  let c256_i32_1039 : BitVec 32 := 256#32
  let v1743 : BitVec 32 := Scalar.muli v1742 c256_i32_1039
  let c110_i32 : BitVec 32 := 110#32
  let v1744 : BitVec 32 := Scalar.addi v1743 c110_i32
  let c8_i32_1043 : BitVec 32 := 8#32
  let v1749 : BitVec 32 := Scalar.muli v1744 c8_i32_1043
  v1749
def k0_off455 (i : grid0.Coords) : Fin 1 → Nat :=
  let c1_i32_1040 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1745 : BitVec 32 := Scalar.subi c1_i32_1040 v9
  ![v1745.toNat]
def k0_off456 (i : grid0.Coords) : Fin 3 → Nat :=
  let c1_i32_1040 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1745 : BitVec 32 := Scalar.subi c1_i32_1040 v9
  let arg1 : BitVec 32 := BitVec.ofNat 32 (i 1).val
  let c2_i32_1037 : BitVec 32 := 2#32
  let v1741 : BitVec 32 := Scalar.muli arg1 c2_i32_1037
  let c0_i32_1038 : BitVec 32 := 0#32
  let v1742 : BitVec 32 := Scalar.addi v1741 c0_i32_1038
  let c256_i32_1039 : BitVec 32 := 256#32
  let v1743 : BitVec 32 := Scalar.muli v1742 c256_i32_1039
  let c110_i32 : BitVec 32 := 110#32
  let v1744 : BitVec 32 := Scalar.addi v1743 c110_i32
  let c8_i32_1043 : BitVec 32 := 8#32
  let v1749 : BitVec 32 := Scalar.muli v1744 c8_i32_1043
  let v1750 : BitVec 32 := v1749
  let c0_i32_1044 : BitVec 32 := 0#32
  ![v1745.toNat, v1750.toNat, 0]
def k0_off457 (v1747 : BitVec 32) : Fin 2 → Nat :=
  let v1748 : BitVec 32 := v1747
  let c0_i32_1045 : BitVec 32 := 0#32
  ![v1748.toNat, 0]

def k0_chk112 (i : grid0.Coords) (v1747 : BitVec 32) : Prop :=
  (∀ (k0_h2 : k0_cond2 i = 1#1), 8 ∣ (k0_mult223 v1747).toNat) ∧
  (∀ (k0_h2 : k0_cond2 i = 1#1), ∀ a, (k0_off457 v1747) a + S8x128.size a ≤ S131072x128.size a)
theorem k0_mult223_dvd : ∀ (i : grid0.Coords) (v1747 : BitVec 32) (k0_hw112 : k0_chk112 i v1747), ∀ (k0_h2 : k0_cond2 i = 1#1), 8 ∣ (k0_mult223 v1747).toNat := fun i v1747 k0_hw112 k0_h2 => k0_hw112.1 k0_h2
theorem k0_off457_inb : ∀ (i : grid0.Coords) (v1747 : BitVec 32) (k0_hw112 : k0_chk112 i v1747), ∀ (k0_h2 : k0_cond2 i = 1#1), ∀ a, (k0_off457 v1747) a + S8x128.size a ≤ S131072x128.size a := fun i v1747 k0_hw112 k0_h2 => k0_hw112.2 k0_h2

def k0_off458 (i : grid0.Coords) : Fin 3 → Nat :=
  let c0_1050 : Index := 0#32
  let c0_1051 : Index := 0#32
  let arg1 : BitVec 32 := BitVec.ofNat 32 (i 1).val
  let c2_i32_1046 : BitVec 32 := 2#32
  let v1756 : BitVec 32 := Scalar.muli arg1 c2_i32_1046
  let c0_i32_1047 : BitVec 32 := 0#32
  let v1757 : BitVec 32 := Scalar.addi v1756 c0_i32_1047
  let c256_i32_1048 : BitVec 32 := 256#32
  let v1758 : BitVec 32 := Scalar.muli v1757 c256_i32_1048
  let c111_i32 : BitVec 32 := 111#32
  let v1759 : BitVec 32 := Scalar.addi v1758 c111_i32
  let v1761 : Index := Scalar.indexCast v1759
  ![0, 0, v1761.toNat]
def k0_mult225 (v1762 : BitVec 32) : BitVec 32 :=
  v1762

def k0_mult226 (i : grid0.Coords) : BitVec 32 :=
  let arg1 : BitVec 32 := BitVec.ofNat 32 (i 1).val
  let c2_i32_1046 : BitVec 32 := 2#32
  let v1756 : BitVec 32 := Scalar.muli arg1 c2_i32_1046
  let c0_i32_1047 : BitVec 32 := 0#32
  let v1757 : BitVec 32 := Scalar.addi v1756 c0_i32_1047
  let c256_i32_1048 : BitVec 32 := 256#32
  let v1758 : BitVec 32 := Scalar.muli v1757 c256_i32_1048
  let c111_i32 : BitVec 32 := 111#32
  let v1759 : BitVec 32 := Scalar.addi v1758 c111_i32
  let c8_i32_1052 : BitVec 32 := 8#32
  let v1764 : BitVec 32 := Scalar.muli v1759 c8_i32_1052
  v1764
def k0_off459 (i : grid0.Coords) : Fin 1 → Nat :=
  let c1_i32_1049 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1760 : BitVec 32 := Scalar.subi c1_i32_1049 v9
  ![v1760.toNat]
def k0_off460 (i : grid0.Coords) : Fin 3 → Nat :=
  let c1_i32_1049 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1760 : BitVec 32 := Scalar.subi c1_i32_1049 v9
  let arg1 : BitVec 32 := BitVec.ofNat 32 (i 1).val
  let c2_i32_1046 : BitVec 32 := 2#32
  let v1756 : BitVec 32 := Scalar.muli arg1 c2_i32_1046
  let c0_i32_1047 : BitVec 32 := 0#32
  let v1757 : BitVec 32 := Scalar.addi v1756 c0_i32_1047
  let c256_i32_1048 : BitVec 32 := 256#32
  let v1758 : BitVec 32 := Scalar.muli v1757 c256_i32_1048
  let c111_i32 : BitVec 32 := 111#32
  let v1759 : BitVec 32 := Scalar.addi v1758 c111_i32
  let c8_i32_1052 : BitVec 32 := 8#32
  let v1764 : BitVec 32 := Scalar.muli v1759 c8_i32_1052
  let v1765 : BitVec 32 := v1764
  let c0_i32_1053 : BitVec 32 := 0#32
  ![v1760.toNat, v1765.toNat, 0]
def k0_off461 (v1762 : BitVec 32) : Fin 2 → Nat :=
  let v1763 : BitVec 32 := v1762
  let c0_i32_1054 : BitVec 32 := 0#32
  ![v1763.toNat, 0]

def k0_chk113 (i : grid0.Coords) (v1762 : BitVec 32) : Prop :=
  (∀ (k0_h2 : k0_cond2 i = 1#1), 8 ∣ (k0_mult225 v1762).toNat) ∧
  (∀ (k0_h2 : k0_cond2 i = 1#1), ∀ a, (k0_off461 v1762) a + S8x128.size a ≤ S131072x128.size a)
theorem k0_mult225_dvd : ∀ (i : grid0.Coords) (v1762 : BitVec 32) (k0_hw113 : k0_chk113 i v1762), ∀ (k0_h2 : k0_cond2 i = 1#1), 8 ∣ (k0_mult225 v1762).toNat := fun i v1762 k0_hw113 k0_h2 => k0_hw113.1 k0_h2
theorem k0_off461_inb : ∀ (i : grid0.Coords) (v1762 : BitVec 32) (k0_hw113 : k0_chk113 i v1762), ∀ (k0_h2 : k0_cond2 i = 1#1), ∀ a, (k0_off461 v1762) a + S8x128.size a ≤ S131072x128.size a := fun i v1762 k0_hw113 k0_h2 => k0_hw113.2 k0_h2

def k0_off462 (i : grid0.Coords) : Fin 3 → Nat :=
  let c0_1059 : Index := 0#32
  let c0_1060 : Index := 0#32
  let arg1 : BitVec 32 := BitVec.ofNat 32 (i 1).val
  let c2_i32_1055 : BitVec 32 := 2#32
  let v1771 : BitVec 32 := Scalar.muli arg1 c2_i32_1055
  let c0_i32_1056 : BitVec 32 := 0#32
  let v1772 : BitVec 32 := Scalar.addi v1771 c0_i32_1056
  let c256_i32_1057 : BitVec 32 := 256#32
  let v1773 : BitVec 32 := Scalar.muli v1772 c256_i32_1057
  let c112_i32 : BitVec 32 := 112#32
  let v1774 : BitVec 32 := Scalar.addi v1773 c112_i32
  let v1776 : Index := Scalar.indexCast v1774
  ![0, 0, v1776.toNat]
def k0_mult227 (v1777 : BitVec 32) : BitVec 32 :=
  v1777

def k0_mult228 (i : grid0.Coords) : BitVec 32 :=
  let arg1 : BitVec 32 := BitVec.ofNat 32 (i 1).val
  let c2_i32_1055 : BitVec 32 := 2#32
  let v1771 : BitVec 32 := Scalar.muli arg1 c2_i32_1055
  let c0_i32_1056 : BitVec 32 := 0#32
  let v1772 : BitVec 32 := Scalar.addi v1771 c0_i32_1056
  let c256_i32_1057 : BitVec 32 := 256#32
  let v1773 : BitVec 32 := Scalar.muli v1772 c256_i32_1057
  let c112_i32 : BitVec 32 := 112#32
  let v1774 : BitVec 32 := Scalar.addi v1773 c112_i32
  let c8_i32_1061 : BitVec 32 := 8#32
  let v1779 : BitVec 32 := Scalar.muli v1774 c8_i32_1061
  v1779
def k0_off463 (i : grid0.Coords) : Fin 1 → Nat :=
  let c1_i32_1058 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1775 : BitVec 32 := Scalar.subi c1_i32_1058 v9
  ![v1775.toNat]
def k0_off464 (i : grid0.Coords) : Fin 3 → Nat :=
  let c1_i32_1058 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1775 : BitVec 32 := Scalar.subi c1_i32_1058 v9
  let arg1 : BitVec 32 := BitVec.ofNat 32 (i 1).val
  let c2_i32_1055 : BitVec 32 := 2#32
  let v1771 : BitVec 32 := Scalar.muli arg1 c2_i32_1055
  let c0_i32_1056 : BitVec 32 := 0#32
  let v1772 : BitVec 32 := Scalar.addi v1771 c0_i32_1056
  let c256_i32_1057 : BitVec 32 := 256#32
  let v1773 : BitVec 32 := Scalar.muli v1772 c256_i32_1057
  let c112_i32 : BitVec 32 := 112#32
  let v1774 : BitVec 32 := Scalar.addi v1773 c112_i32
  let c8_i32_1061 : BitVec 32 := 8#32
  let v1779 : BitVec 32 := Scalar.muli v1774 c8_i32_1061
  let v1780 : BitVec 32 := v1779
  let c0_i32_1062 : BitVec 32 := 0#32
  ![v1775.toNat, v1780.toNat, 0]
def k0_off465 (v1777 : BitVec 32) : Fin 2 → Nat :=
  let v1778 : BitVec 32 := v1777
  let c0_i32_1063 : BitVec 32 := 0#32
  ![v1778.toNat, 0]

def k0_chk114 (i : grid0.Coords) (v1777 : BitVec 32) : Prop :=
  (∀ (k0_h2 : k0_cond2 i = 1#1), 8 ∣ (k0_mult227 v1777).toNat) ∧
  (∀ (k0_h2 : k0_cond2 i = 1#1), ∀ a, (k0_off465 v1777) a + S8x128.size a ≤ S131072x128.size a)
theorem k0_mult227_dvd : ∀ (i : grid0.Coords) (v1777 : BitVec 32) (k0_hw114 : k0_chk114 i v1777), ∀ (k0_h2 : k0_cond2 i = 1#1), 8 ∣ (k0_mult227 v1777).toNat := fun i v1777 k0_hw114 k0_h2 => k0_hw114.1 k0_h2
theorem k0_off465_inb : ∀ (i : grid0.Coords) (v1777 : BitVec 32) (k0_hw114 : k0_chk114 i v1777), ∀ (k0_h2 : k0_cond2 i = 1#1), ∀ a, (k0_off465 v1777) a + S8x128.size a ≤ S131072x128.size a := fun i v1777 k0_hw114 k0_h2 => k0_hw114.2 k0_h2

def k0_off466 (i : grid0.Coords) : Fin 3 → Nat :=
  let c0_1068 : Index := 0#32
  let c0_1069 : Index := 0#32
  let arg1 : BitVec 32 := BitVec.ofNat 32 (i 1).val
  let c2_i32_1064 : BitVec 32 := 2#32
  let v1786 : BitVec 32 := Scalar.muli arg1 c2_i32_1064
  let c0_i32_1065 : BitVec 32 := 0#32
  let v1787 : BitVec 32 := Scalar.addi v1786 c0_i32_1065
  let c256_i32_1066 : BitVec 32 := 256#32
  let v1788 : BitVec 32 := Scalar.muli v1787 c256_i32_1066
  let c113_i32 : BitVec 32 := 113#32
  let v1789 : BitVec 32 := Scalar.addi v1788 c113_i32
  let v1791 : Index := Scalar.indexCast v1789
  ![0, 0, v1791.toNat]
def k0_mult229 (v1792 : BitVec 32) : BitVec 32 :=
  v1792

def k0_mult230 (i : grid0.Coords) : BitVec 32 :=
  let arg1 : BitVec 32 := BitVec.ofNat 32 (i 1).val
  let c2_i32_1064 : BitVec 32 := 2#32
  let v1786 : BitVec 32 := Scalar.muli arg1 c2_i32_1064
  let c0_i32_1065 : BitVec 32 := 0#32
  let v1787 : BitVec 32 := Scalar.addi v1786 c0_i32_1065
  let c256_i32_1066 : BitVec 32 := 256#32
  let v1788 : BitVec 32 := Scalar.muli v1787 c256_i32_1066
  let c113_i32 : BitVec 32 := 113#32
  let v1789 : BitVec 32 := Scalar.addi v1788 c113_i32
  let c8_i32_1070 : BitVec 32 := 8#32
  let v1794 : BitVec 32 := Scalar.muli v1789 c8_i32_1070
  v1794
def k0_off467 (i : grid0.Coords) : Fin 1 → Nat :=
  let c1_i32_1067 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1790 : BitVec 32 := Scalar.subi c1_i32_1067 v9
  ![v1790.toNat]
def k0_off468 (i : grid0.Coords) : Fin 3 → Nat :=
  let c1_i32_1067 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1790 : BitVec 32 := Scalar.subi c1_i32_1067 v9
  let arg1 : BitVec 32 := BitVec.ofNat 32 (i 1).val
  let c2_i32_1064 : BitVec 32 := 2#32
  let v1786 : BitVec 32 := Scalar.muli arg1 c2_i32_1064
  let c0_i32_1065 : BitVec 32 := 0#32
  let v1787 : BitVec 32 := Scalar.addi v1786 c0_i32_1065
  let c256_i32_1066 : BitVec 32 := 256#32
  let v1788 : BitVec 32 := Scalar.muli v1787 c256_i32_1066
  let c113_i32 : BitVec 32 := 113#32
  let v1789 : BitVec 32 := Scalar.addi v1788 c113_i32
  let c8_i32_1070 : BitVec 32 := 8#32
  let v1794 : BitVec 32 := Scalar.muli v1789 c8_i32_1070
  let v1795 : BitVec 32 := v1794
  let c0_i32_1071 : BitVec 32 := 0#32
  ![v1790.toNat, v1795.toNat, 0]
def k0_off469 (v1792 : BitVec 32) : Fin 2 → Nat :=
  let v1793 : BitVec 32 := v1792
  let c0_i32_1072 : BitVec 32 := 0#32
  ![v1793.toNat, 0]

def k0_chk115 (i : grid0.Coords) (v1792 : BitVec 32) : Prop :=
  (∀ (k0_h2 : k0_cond2 i = 1#1), 8 ∣ (k0_mult229 v1792).toNat) ∧
  (∀ (k0_h2 : k0_cond2 i = 1#1), ∀ a, (k0_off469 v1792) a + S8x128.size a ≤ S131072x128.size a)
theorem k0_mult229_dvd : ∀ (i : grid0.Coords) (v1792 : BitVec 32) (k0_hw115 : k0_chk115 i v1792), ∀ (k0_h2 : k0_cond2 i = 1#1), 8 ∣ (k0_mult229 v1792).toNat := fun i v1792 k0_hw115 k0_h2 => k0_hw115.1 k0_h2
theorem k0_off469_inb : ∀ (i : grid0.Coords) (v1792 : BitVec 32) (k0_hw115 : k0_chk115 i v1792), ∀ (k0_h2 : k0_cond2 i = 1#1), ∀ a, (k0_off469 v1792) a + S8x128.size a ≤ S131072x128.size a := fun i v1792 k0_hw115 k0_h2 => k0_hw115.2 k0_h2

def k0_off470 (i : grid0.Coords) : Fin 3 → Nat :=
  let c0_1077 : Index := 0#32
  let c0_1078 : Index := 0#32
  let arg1 : BitVec 32 := BitVec.ofNat 32 (i 1).val
  let c2_i32_1073 : BitVec 32 := 2#32
  let v1801 : BitVec 32 := Scalar.muli arg1 c2_i32_1073
  let c0_i32_1074 : BitVec 32 := 0#32
  let v1802 : BitVec 32 := Scalar.addi v1801 c0_i32_1074
  let c256_i32_1075 : BitVec 32 := 256#32
  let v1803 : BitVec 32 := Scalar.muli v1802 c256_i32_1075
  let c114_i32 : BitVec 32 := 114#32
  let v1804 : BitVec 32 := Scalar.addi v1803 c114_i32
  let v1806 : Index := Scalar.indexCast v1804
  ![0, 0, v1806.toNat]
def k0_mult231 (v1807 : BitVec 32) : BitVec 32 :=
  v1807

def k0_mult232 (i : grid0.Coords) : BitVec 32 :=
  let arg1 : BitVec 32 := BitVec.ofNat 32 (i 1).val
  let c2_i32_1073 : BitVec 32 := 2#32
  let v1801 : BitVec 32 := Scalar.muli arg1 c2_i32_1073
  let c0_i32_1074 : BitVec 32 := 0#32
  let v1802 : BitVec 32 := Scalar.addi v1801 c0_i32_1074
  let c256_i32_1075 : BitVec 32 := 256#32
  let v1803 : BitVec 32 := Scalar.muli v1802 c256_i32_1075
  let c114_i32 : BitVec 32 := 114#32
  let v1804 : BitVec 32 := Scalar.addi v1803 c114_i32
  let c8_i32_1079 : BitVec 32 := 8#32
  let v1809 : BitVec 32 := Scalar.muli v1804 c8_i32_1079
  v1809
def k0_off471 (i : grid0.Coords) : Fin 1 → Nat :=
  let c1_i32_1076 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1805 : BitVec 32 := Scalar.subi c1_i32_1076 v9
  ![v1805.toNat]
def k0_off472 (i : grid0.Coords) : Fin 3 → Nat :=
  let c1_i32_1076 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1805 : BitVec 32 := Scalar.subi c1_i32_1076 v9
  let arg1 : BitVec 32 := BitVec.ofNat 32 (i 1).val
  let c2_i32_1073 : BitVec 32 := 2#32
  let v1801 : BitVec 32 := Scalar.muli arg1 c2_i32_1073
  let c0_i32_1074 : BitVec 32 := 0#32
  let v1802 : BitVec 32 := Scalar.addi v1801 c0_i32_1074
  let c256_i32_1075 : BitVec 32 := 256#32
  let v1803 : BitVec 32 := Scalar.muli v1802 c256_i32_1075
  let c114_i32 : BitVec 32 := 114#32
  let v1804 : BitVec 32 := Scalar.addi v1803 c114_i32
  let c8_i32_1079 : BitVec 32 := 8#32
  let v1809 : BitVec 32 := Scalar.muli v1804 c8_i32_1079
  let v1810 : BitVec 32 := v1809
  let c0_i32_1080 : BitVec 32 := 0#32
  ![v1805.toNat, v1810.toNat, 0]
def k0_off473 (v1807 : BitVec 32) : Fin 2 → Nat :=
  let v1808 : BitVec 32 := v1807
  let c0_i32_1081 : BitVec 32 := 0#32
  ![v1808.toNat, 0]

def k0_chk116 (i : grid0.Coords) (v1807 : BitVec 32) : Prop :=
  (∀ (k0_h2 : k0_cond2 i = 1#1), 8 ∣ (k0_mult231 v1807).toNat) ∧
  (∀ (k0_h2 : k0_cond2 i = 1#1), ∀ a, (k0_off473 v1807) a + S8x128.size a ≤ S131072x128.size a)
theorem k0_mult231_dvd : ∀ (i : grid0.Coords) (v1807 : BitVec 32) (k0_hw116 : k0_chk116 i v1807), ∀ (k0_h2 : k0_cond2 i = 1#1), 8 ∣ (k0_mult231 v1807).toNat := fun i v1807 k0_hw116 k0_h2 => k0_hw116.1 k0_h2
theorem k0_off473_inb : ∀ (i : grid0.Coords) (v1807 : BitVec 32) (k0_hw116 : k0_chk116 i v1807), ∀ (k0_h2 : k0_cond2 i = 1#1), ∀ a, (k0_off473 v1807) a + S8x128.size a ≤ S131072x128.size a := fun i v1807 k0_hw116 k0_h2 => k0_hw116.2 k0_h2

def k0_off474 (i : grid0.Coords) : Fin 3 → Nat :=
  let c0_1086 : Index := 0#32
  let c0_1087 : Index := 0#32
  let arg1 : BitVec 32 := BitVec.ofNat 32 (i 1).val
  let c2_i32_1082 : BitVec 32 := 2#32
  let v1816 : BitVec 32 := Scalar.muli arg1 c2_i32_1082
  let c0_i32_1083 : BitVec 32 := 0#32
  let v1817 : BitVec 32 := Scalar.addi v1816 c0_i32_1083
  let c256_i32_1084 : BitVec 32 := 256#32
  let v1818 : BitVec 32 := Scalar.muli v1817 c256_i32_1084
  let c115_i32 : BitVec 32 := 115#32
  let v1819 : BitVec 32 := Scalar.addi v1818 c115_i32
  let v1821 : Index := Scalar.indexCast v1819
  ![0, 0, v1821.toNat]
def k0_mult233 (v1822 : BitVec 32) : BitVec 32 :=
  v1822

def k0_mult234 (i : grid0.Coords) : BitVec 32 :=
  let arg1 : BitVec 32 := BitVec.ofNat 32 (i 1).val
  let c2_i32_1082 : BitVec 32 := 2#32
  let v1816 : BitVec 32 := Scalar.muli arg1 c2_i32_1082
  let c0_i32_1083 : BitVec 32 := 0#32
  let v1817 : BitVec 32 := Scalar.addi v1816 c0_i32_1083
  let c256_i32_1084 : BitVec 32 := 256#32
  let v1818 : BitVec 32 := Scalar.muli v1817 c256_i32_1084
  let c115_i32 : BitVec 32 := 115#32
  let v1819 : BitVec 32 := Scalar.addi v1818 c115_i32
  let c8_i32_1088 : BitVec 32 := 8#32
  let v1824 : BitVec 32 := Scalar.muli v1819 c8_i32_1088
  v1824
def k0_off475 (i : grid0.Coords) : Fin 1 → Nat :=
  let c1_i32_1085 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1820 : BitVec 32 := Scalar.subi c1_i32_1085 v9
  ![v1820.toNat]
def k0_off476 (i : grid0.Coords) : Fin 3 → Nat :=
  let c1_i32_1085 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1820 : BitVec 32 := Scalar.subi c1_i32_1085 v9
  let arg1 : BitVec 32 := BitVec.ofNat 32 (i 1).val
  let c2_i32_1082 : BitVec 32 := 2#32
  let v1816 : BitVec 32 := Scalar.muli arg1 c2_i32_1082
  let c0_i32_1083 : BitVec 32 := 0#32
  let v1817 : BitVec 32 := Scalar.addi v1816 c0_i32_1083
  let c256_i32_1084 : BitVec 32 := 256#32
  let v1818 : BitVec 32 := Scalar.muli v1817 c256_i32_1084
  let c115_i32 : BitVec 32 := 115#32
  let v1819 : BitVec 32 := Scalar.addi v1818 c115_i32
  let c8_i32_1088 : BitVec 32 := 8#32
  let v1824 : BitVec 32 := Scalar.muli v1819 c8_i32_1088
  let v1825 : BitVec 32 := v1824
  let c0_i32_1089 : BitVec 32 := 0#32
  ![v1820.toNat, v1825.toNat, 0]
def k0_off477 (v1822 : BitVec 32) : Fin 2 → Nat :=
  let v1823 : BitVec 32 := v1822
  let c0_i32_1090 : BitVec 32 := 0#32
  ![v1823.toNat, 0]

def k0_chk117 (i : grid0.Coords) (v1822 : BitVec 32) : Prop :=
  (∀ (k0_h2 : k0_cond2 i = 1#1), 8 ∣ (k0_mult233 v1822).toNat) ∧
  (∀ (k0_h2 : k0_cond2 i = 1#1), ∀ a, (k0_off477 v1822) a + S8x128.size a ≤ S131072x128.size a)
theorem k0_mult233_dvd : ∀ (i : grid0.Coords) (v1822 : BitVec 32) (k0_hw117 : k0_chk117 i v1822), ∀ (k0_h2 : k0_cond2 i = 1#1), 8 ∣ (k0_mult233 v1822).toNat := fun i v1822 k0_hw117 k0_h2 => k0_hw117.1 k0_h2
theorem k0_off477_inb : ∀ (i : grid0.Coords) (v1822 : BitVec 32) (k0_hw117 : k0_chk117 i v1822), ∀ (k0_h2 : k0_cond2 i = 1#1), ∀ a, (k0_off477 v1822) a + S8x128.size a ≤ S131072x128.size a := fun i v1822 k0_hw117 k0_h2 => k0_hw117.2 k0_h2

def k0_off478 (i : grid0.Coords) : Fin 3 → Nat :=
  let c0_1095 : Index := 0#32
  let c0_1096 : Index := 0#32
  let arg1 : BitVec 32 := BitVec.ofNat 32 (i 1).val
  let c2_i32_1091 : BitVec 32 := 2#32
  let v1831 : BitVec 32 := Scalar.muli arg1 c2_i32_1091
  let c0_i32_1092 : BitVec 32 := 0#32
  let v1832 : BitVec 32 := Scalar.addi v1831 c0_i32_1092
  let c256_i32_1093 : BitVec 32 := 256#32
  let v1833 : BitVec 32 := Scalar.muli v1832 c256_i32_1093
  let c116_i32 : BitVec 32 := 116#32
  let v1834 : BitVec 32 := Scalar.addi v1833 c116_i32
  let v1836 : Index := Scalar.indexCast v1834
  ![0, 0, v1836.toNat]
def k0_mult235 (v1837 : BitVec 32) : BitVec 32 :=
  v1837

def k0_mult236 (i : grid0.Coords) : BitVec 32 :=
  let arg1 : BitVec 32 := BitVec.ofNat 32 (i 1).val
  let c2_i32_1091 : BitVec 32 := 2#32
  let v1831 : BitVec 32 := Scalar.muli arg1 c2_i32_1091
  let c0_i32_1092 : BitVec 32 := 0#32
  let v1832 : BitVec 32 := Scalar.addi v1831 c0_i32_1092
  let c256_i32_1093 : BitVec 32 := 256#32
  let v1833 : BitVec 32 := Scalar.muli v1832 c256_i32_1093
  let c116_i32 : BitVec 32 := 116#32
  let v1834 : BitVec 32 := Scalar.addi v1833 c116_i32
  let c8_i32_1097 : BitVec 32 := 8#32
  let v1839 : BitVec 32 := Scalar.muli v1834 c8_i32_1097
  v1839
def k0_off479 (i : grid0.Coords) : Fin 1 → Nat :=
  let c1_i32_1094 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1835 : BitVec 32 := Scalar.subi c1_i32_1094 v9
  ![v1835.toNat]
def k0_off480 (i : grid0.Coords) : Fin 3 → Nat :=
  let c1_i32_1094 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1835 : BitVec 32 := Scalar.subi c1_i32_1094 v9
  let arg1 : BitVec 32 := BitVec.ofNat 32 (i 1).val
  let c2_i32_1091 : BitVec 32 := 2#32
  let v1831 : BitVec 32 := Scalar.muli arg1 c2_i32_1091
  let c0_i32_1092 : BitVec 32 := 0#32
  let v1832 : BitVec 32 := Scalar.addi v1831 c0_i32_1092
  let c256_i32_1093 : BitVec 32 := 256#32
  let v1833 : BitVec 32 := Scalar.muli v1832 c256_i32_1093
  let c116_i32 : BitVec 32 := 116#32
  let v1834 : BitVec 32 := Scalar.addi v1833 c116_i32
  let c8_i32_1097 : BitVec 32 := 8#32
  let v1839 : BitVec 32 := Scalar.muli v1834 c8_i32_1097
  let v1840 : BitVec 32 := v1839
  let c0_i32_1098 : BitVec 32 := 0#32
  ![v1835.toNat, v1840.toNat, 0]
def k0_off481 (v1837 : BitVec 32) : Fin 2 → Nat :=
  let v1838 : BitVec 32 := v1837
  let c0_i32_1099 : BitVec 32 := 0#32
  ![v1838.toNat, 0]

def k0_chk118 (i : grid0.Coords) (v1837 : BitVec 32) : Prop :=
  (∀ (k0_h2 : k0_cond2 i = 1#1), 8 ∣ (k0_mult235 v1837).toNat) ∧
  (∀ (k0_h2 : k0_cond2 i = 1#1), ∀ a, (k0_off481 v1837) a + S8x128.size a ≤ S131072x128.size a)
theorem k0_mult235_dvd : ∀ (i : grid0.Coords) (v1837 : BitVec 32) (k0_hw118 : k0_chk118 i v1837), ∀ (k0_h2 : k0_cond2 i = 1#1), 8 ∣ (k0_mult235 v1837).toNat := fun i v1837 k0_hw118 k0_h2 => k0_hw118.1 k0_h2
theorem k0_off481_inb : ∀ (i : grid0.Coords) (v1837 : BitVec 32) (k0_hw118 : k0_chk118 i v1837), ∀ (k0_h2 : k0_cond2 i = 1#1), ∀ a, (k0_off481 v1837) a + S8x128.size a ≤ S131072x128.size a := fun i v1837 k0_hw118 k0_h2 => k0_hw118.2 k0_h2

def k0_off482 (i : grid0.Coords) : Fin 3 → Nat :=
  let c0_1104 : Index := 0#32
  let c0_1105 : Index := 0#32
  let arg1 : BitVec 32 := BitVec.ofNat 32 (i 1).val
  let c2_i32_1100 : BitVec 32 := 2#32
  let v1846 : BitVec 32 := Scalar.muli arg1 c2_i32_1100
  let c0_i32_1101 : BitVec 32 := 0#32
  let v1847 : BitVec 32 := Scalar.addi v1846 c0_i32_1101
  let c256_i32_1102 : BitVec 32 := 256#32
  let v1848 : BitVec 32 := Scalar.muli v1847 c256_i32_1102
  let c117_i32 : BitVec 32 := 117#32
  let v1849 : BitVec 32 := Scalar.addi v1848 c117_i32
  let v1851 : Index := Scalar.indexCast v1849
  ![0, 0, v1851.toNat]
def k0_mult237 (v1852 : BitVec 32) : BitVec 32 :=
  v1852

def k0_mult238 (i : grid0.Coords) : BitVec 32 :=
  let arg1 : BitVec 32 := BitVec.ofNat 32 (i 1).val
  let c2_i32_1100 : BitVec 32 := 2#32
  let v1846 : BitVec 32 := Scalar.muli arg1 c2_i32_1100
  let c0_i32_1101 : BitVec 32 := 0#32
  let v1847 : BitVec 32 := Scalar.addi v1846 c0_i32_1101
  let c256_i32_1102 : BitVec 32 := 256#32
  let v1848 : BitVec 32 := Scalar.muli v1847 c256_i32_1102
  let c117_i32 : BitVec 32 := 117#32
  let v1849 : BitVec 32 := Scalar.addi v1848 c117_i32
  let c8_i32_1106 : BitVec 32 := 8#32
  let v1854 : BitVec 32 := Scalar.muli v1849 c8_i32_1106
  v1854
def k0_off483 (i : grid0.Coords) : Fin 1 → Nat :=
  let c1_i32_1103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1850 : BitVec 32 := Scalar.subi c1_i32_1103 v9
  ![v1850.toNat]
def k0_off484 (i : grid0.Coords) : Fin 3 → Nat :=
  let c1_i32_1103 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1850 : BitVec 32 := Scalar.subi c1_i32_1103 v9
  let arg1 : BitVec 32 := BitVec.ofNat 32 (i 1).val
  let c2_i32_1100 : BitVec 32 := 2#32
  let v1846 : BitVec 32 := Scalar.muli arg1 c2_i32_1100
  let c0_i32_1101 : BitVec 32 := 0#32
  let v1847 : BitVec 32 := Scalar.addi v1846 c0_i32_1101
  let c256_i32_1102 : BitVec 32 := 256#32
  let v1848 : BitVec 32 := Scalar.muli v1847 c256_i32_1102
  let c117_i32 : BitVec 32 := 117#32
  let v1849 : BitVec 32 := Scalar.addi v1848 c117_i32
  let c8_i32_1106 : BitVec 32 := 8#32
  let v1854 : BitVec 32 := Scalar.muli v1849 c8_i32_1106
  let v1855 : BitVec 32 := v1854
  let c0_i32_1107 : BitVec 32 := 0#32
  ![v1850.toNat, v1855.toNat, 0]
def k0_off485 (v1852 : BitVec 32) : Fin 2 → Nat :=
  let v1853 : BitVec 32 := v1852
  let c0_i32_1108 : BitVec 32 := 0#32
  ![v1853.toNat, 0]

def k0_chk119 (i : grid0.Coords) (v1852 : BitVec 32) : Prop :=
  (∀ (k0_h2 : k0_cond2 i = 1#1), 8 ∣ (k0_mult237 v1852).toNat) ∧
  (∀ (k0_h2 : k0_cond2 i = 1#1), ∀ a, (k0_off485 v1852) a + S8x128.size a ≤ S131072x128.size a)
theorem k0_mult237_dvd : ∀ (i : grid0.Coords) (v1852 : BitVec 32) (k0_hw119 : k0_chk119 i v1852), ∀ (k0_h2 : k0_cond2 i = 1#1), 8 ∣ (k0_mult237 v1852).toNat := fun i v1852 k0_hw119 k0_h2 => k0_hw119.1 k0_h2
theorem k0_off485_inb : ∀ (i : grid0.Coords) (v1852 : BitVec 32) (k0_hw119 : k0_chk119 i v1852), ∀ (k0_h2 : k0_cond2 i = 1#1), ∀ a, (k0_off485 v1852) a + S8x128.size a ≤ S131072x128.size a := fun i v1852 k0_hw119 k0_h2 => k0_hw119.2 k0_h2

def k0_off486 (i : grid0.Coords) : Fin 3 → Nat :=
  let c0_1113 : Index := 0#32
  let c0_1114 : Index := 0#32
  let arg1 : BitVec 32 := BitVec.ofNat 32 (i 1).val
  let c2_i32_1109 : BitVec 32 := 2#32
  let v1861 : BitVec 32 := Scalar.muli arg1 c2_i32_1109
  let c0_i32_1110 : BitVec 32 := 0#32
  let v1862 : BitVec 32 := Scalar.addi v1861 c0_i32_1110
  let c256_i32_1111 : BitVec 32 := 256#32
  let v1863 : BitVec 32 := Scalar.muli v1862 c256_i32_1111
  let c118_i32 : BitVec 32 := 118#32
  let v1864 : BitVec 32 := Scalar.addi v1863 c118_i32
  let v1866 : Index := Scalar.indexCast v1864
  ![0, 0, v1866.toNat]
def k0_mult239 (v1867 : BitVec 32) : BitVec 32 :=
  v1867

def k0_mult240 (i : grid0.Coords) : BitVec 32 :=
  let arg1 : BitVec 32 := BitVec.ofNat 32 (i 1).val
  let c2_i32_1109 : BitVec 32 := 2#32
  let v1861 : BitVec 32 := Scalar.muli arg1 c2_i32_1109
  let c0_i32_1110 : BitVec 32 := 0#32
  let v1862 : BitVec 32 := Scalar.addi v1861 c0_i32_1110
  let c256_i32_1111 : BitVec 32 := 256#32
  let v1863 : BitVec 32 := Scalar.muli v1862 c256_i32_1111
  let c118_i32 : BitVec 32 := 118#32
  let v1864 : BitVec 32 := Scalar.addi v1863 c118_i32
  let c8_i32_1115 : BitVec 32 := 8#32
  let v1869 : BitVec 32 := Scalar.muli v1864 c8_i32_1115
  v1869
def k0_off487 (i : grid0.Coords) : Fin 1 → Nat :=
  let c1_i32_1112 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1865 : BitVec 32 := Scalar.subi c1_i32_1112 v9
  ![v1865.toNat]
def k0_off488 (i : grid0.Coords) : Fin 3 → Nat :=
  let c1_i32_1112 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1865 : BitVec 32 := Scalar.subi c1_i32_1112 v9
  let arg1 : BitVec 32 := BitVec.ofNat 32 (i 1).val
  let c2_i32_1109 : BitVec 32 := 2#32
  let v1861 : BitVec 32 := Scalar.muli arg1 c2_i32_1109
  let c0_i32_1110 : BitVec 32 := 0#32
  let v1862 : BitVec 32 := Scalar.addi v1861 c0_i32_1110
  let c256_i32_1111 : BitVec 32 := 256#32
  let v1863 : BitVec 32 := Scalar.muli v1862 c256_i32_1111
  let c118_i32 : BitVec 32 := 118#32
  let v1864 : BitVec 32 := Scalar.addi v1863 c118_i32
  let c8_i32_1115 : BitVec 32 := 8#32
  let v1869 : BitVec 32 := Scalar.muli v1864 c8_i32_1115
  let v1870 : BitVec 32 := v1869
  let c0_i32_1116 : BitVec 32 := 0#32
  ![v1865.toNat, v1870.toNat, 0]
def k0_off489 (v1867 : BitVec 32) : Fin 2 → Nat :=
  let v1868 : BitVec 32 := v1867
  let c0_i32_1117 : BitVec 32 := 0#32
  ![v1868.toNat, 0]

def k0_chk120 (i : grid0.Coords) (v1867 : BitVec 32) : Prop :=
  (∀ (k0_h2 : k0_cond2 i = 1#1), 8 ∣ (k0_mult239 v1867).toNat) ∧
  (∀ (k0_h2 : k0_cond2 i = 1#1), ∀ a, (k0_off489 v1867) a + S8x128.size a ≤ S131072x128.size a)
theorem k0_mult239_dvd : ∀ (i : grid0.Coords) (v1867 : BitVec 32) (k0_hw120 : k0_chk120 i v1867), ∀ (k0_h2 : k0_cond2 i = 1#1), 8 ∣ (k0_mult239 v1867).toNat := fun i v1867 k0_hw120 k0_h2 => k0_hw120.1 k0_h2
theorem k0_off489_inb : ∀ (i : grid0.Coords) (v1867 : BitVec 32) (k0_hw120 : k0_chk120 i v1867), ∀ (k0_h2 : k0_cond2 i = 1#1), ∀ a, (k0_off489 v1867) a + S8x128.size a ≤ S131072x128.size a := fun i v1867 k0_hw120 k0_h2 => k0_hw120.2 k0_h2

def k0_off490 (i : grid0.Coords) : Fin 3 → Nat :=
  let c0_1122 : Index := 0#32
  let c0_1123 : Index := 0#32
  let arg1 : BitVec 32 := BitVec.ofNat 32 (i 1).val
  let c2_i32_1118 : BitVec 32 := 2#32
  let v1876 : BitVec 32 := Scalar.muli arg1 c2_i32_1118
  let c0_i32_1119 : BitVec 32 := 0#32
  let v1877 : BitVec 32 := Scalar.addi v1876 c0_i32_1119
  let c256_i32_1120 : BitVec 32 := 256#32
  let v1878 : BitVec 32 := Scalar.muli v1877 c256_i32_1120
  let c119_i32 : BitVec 32 := 119#32
  let v1879 : BitVec 32 := Scalar.addi v1878 c119_i32
  let v1881 : Index := Scalar.indexCast v1879
  ![0, 0, v1881.toNat]
def k0_mult241 (v1882 : BitVec 32) : BitVec 32 :=
  v1882

def k0_mult242 (i : grid0.Coords) : BitVec 32 :=
  let arg1 : BitVec 32 := BitVec.ofNat 32 (i 1).val
  let c2_i32_1118 : BitVec 32 := 2#32
  let v1876 : BitVec 32 := Scalar.muli arg1 c2_i32_1118
  let c0_i32_1119 : BitVec 32 := 0#32
  let v1877 : BitVec 32 := Scalar.addi v1876 c0_i32_1119
  let c256_i32_1120 : BitVec 32 := 256#32
  let v1878 : BitVec 32 := Scalar.muli v1877 c256_i32_1120
  let c119_i32 : BitVec 32 := 119#32
  let v1879 : BitVec 32 := Scalar.addi v1878 c119_i32
  let c8_i32_1124 : BitVec 32 := 8#32
  let v1884 : BitVec 32 := Scalar.muli v1879 c8_i32_1124
  v1884
def k0_off491 (i : grid0.Coords) : Fin 1 → Nat :=
  let c1_i32_1121 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1880 : BitVec 32 := Scalar.subi c1_i32_1121 v9
  ![v1880.toNat]
def k0_off492 (i : grid0.Coords) : Fin 3 → Nat :=
  let c1_i32_1121 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1880 : BitVec 32 := Scalar.subi c1_i32_1121 v9
  let arg1 : BitVec 32 := BitVec.ofNat 32 (i 1).val
  let c2_i32_1118 : BitVec 32 := 2#32
  let v1876 : BitVec 32 := Scalar.muli arg1 c2_i32_1118
  let c0_i32_1119 : BitVec 32 := 0#32
  let v1877 : BitVec 32 := Scalar.addi v1876 c0_i32_1119
  let c256_i32_1120 : BitVec 32 := 256#32
  let v1878 : BitVec 32 := Scalar.muli v1877 c256_i32_1120
  let c119_i32 : BitVec 32 := 119#32
  let v1879 : BitVec 32 := Scalar.addi v1878 c119_i32
  let c8_i32_1124 : BitVec 32 := 8#32
  let v1884 : BitVec 32 := Scalar.muli v1879 c8_i32_1124
  let v1885 : BitVec 32 := v1884
  let c0_i32_1125 : BitVec 32 := 0#32
  ![v1880.toNat, v1885.toNat, 0]
def k0_off493 (v1882 : BitVec 32) : Fin 2 → Nat :=
  let v1883 : BitVec 32 := v1882
  let c0_i32_1126 : BitVec 32 := 0#32
  ![v1883.toNat, 0]

def k0_chk121 (i : grid0.Coords) (v1882 : BitVec 32) : Prop :=
  (∀ (k0_h2 : k0_cond2 i = 1#1), 8 ∣ (k0_mult241 v1882).toNat) ∧
  (∀ (k0_h2 : k0_cond2 i = 1#1), ∀ a, (k0_off493 v1882) a + S8x128.size a ≤ S131072x128.size a)
theorem k0_mult241_dvd : ∀ (i : grid0.Coords) (v1882 : BitVec 32) (k0_hw121 : k0_chk121 i v1882), ∀ (k0_h2 : k0_cond2 i = 1#1), 8 ∣ (k0_mult241 v1882).toNat := fun i v1882 k0_hw121 k0_h2 => k0_hw121.1 k0_h2
theorem k0_off493_inb : ∀ (i : grid0.Coords) (v1882 : BitVec 32) (k0_hw121 : k0_chk121 i v1882), ∀ (k0_h2 : k0_cond2 i = 1#1), ∀ a, (k0_off493 v1882) a + S8x128.size a ≤ S131072x128.size a := fun i v1882 k0_hw121 k0_h2 => k0_hw121.2 k0_h2

def k0_off494 (i : grid0.Coords) : Fin 3 → Nat :=
  let c0_1131 : Index := 0#32
  let c0_1132 : Index := 0#32
  let arg1 : BitVec 32 := BitVec.ofNat 32 (i 1).val
  let c2_i32_1127 : BitVec 32 := 2#32
  let v1891 : BitVec 32 := Scalar.muli arg1 c2_i32_1127
  let c0_i32_1128 : BitVec 32 := 0#32
  let v1892 : BitVec 32 := Scalar.addi v1891 c0_i32_1128
  let c256_i32_1129 : BitVec 32 := 256#32
  let v1893 : BitVec 32 := Scalar.muli v1892 c256_i32_1129
  let c120_i32 : BitVec 32 := 120#32
  let v1894 : BitVec 32 := Scalar.addi v1893 c120_i32
  let v1896 : Index := Scalar.indexCast v1894
  ![0, 0, v1896.toNat]
def k0_mult243 (v1897 : BitVec 32) : BitVec 32 :=
  v1897

def k0_mult244 (i : grid0.Coords) : BitVec 32 :=
  let arg1 : BitVec 32 := BitVec.ofNat 32 (i 1).val
  let c2_i32_1127 : BitVec 32 := 2#32
  let v1891 : BitVec 32 := Scalar.muli arg1 c2_i32_1127
  let c0_i32_1128 : BitVec 32 := 0#32
  let v1892 : BitVec 32 := Scalar.addi v1891 c0_i32_1128
  let c256_i32_1129 : BitVec 32 := 256#32
  let v1893 : BitVec 32 := Scalar.muli v1892 c256_i32_1129
  let c120_i32 : BitVec 32 := 120#32
  let v1894 : BitVec 32 := Scalar.addi v1893 c120_i32
  let c8_i32_1133 : BitVec 32 := 8#32
  let v1899 : BitVec 32 := Scalar.muli v1894 c8_i32_1133
  v1899
def k0_off495 (i : grid0.Coords) : Fin 1 → Nat :=
  let c1_i32_1130 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1895 : BitVec 32 := Scalar.subi c1_i32_1130 v9
  ![v1895.toNat]
def k0_off496 (i : grid0.Coords) : Fin 3 → Nat :=
  let c1_i32_1130 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1895 : BitVec 32 := Scalar.subi c1_i32_1130 v9
  let arg1 : BitVec 32 := BitVec.ofNat 32 (i 1).val
  let c2_i32_1127 : BitVec 32 := 2#32
  let v1891 : BitVec 32 := Scalar.muli arg1 c2_i32_1127
  let c0_i32_1128 : BitVec 32 := 0#32
  let v1892 : BitVec 32 := Scalar.addi v1891 c0_i32_1128
  let c256_i32_1129 : BitVec 32 := 256#32
  let v1893 : BitVec 32 := Scalar.muli v1892 c256_i32_1129
  let c120_i32 : BitVec 32 := 120#32
  let v1894 : BitVec 32 := Scalar.addi v1893 c120_i32
  let c8_i32_1133 : BitVec 32 := 8#32
  let v1899 : BitVec 32 := Scalar.muli v1894 c8_i32_1133
  let v1900 : BitVec 32 := v1899
  let c0_i32_1134 : BitVec 32 := 0#32
  ![v1895.toNat, v1900.toNat, 0]
def k0_off497 (v1897 : BitVec 32) : Fin 2 → Nat :=
  let v1898 : BitVec 32 := v1897
  let c0_i32_1135 : BitVec 32 := 0#32
  ![v1898.toNat, 0]

def k0_chk122 (i : grid0.Coords) (v1897 : BitVec 32) : Prop :=
  (∀ (k0_h2 : k0_cond2 i = 1#1), 8 ∣ (k0_mult243 v1897).toNat) ∧
  (∀ (k0_h2 : k0_cond2 i = 1#1), ∀ a, (k0_off497 v1897) a + S8x128.size a ≤ S131072x128.size a)
theorem k0_mult243_dvd : ∀ (i : grid0.Coords) (v1897 : BitVec 32) (k0_hw122 : k0_chk122 i v1897), ∀ (k0_h2 : k0_cond2 i = 1#1), 8 ∣ (k0_mult243 v1897).toNat := fun i v1897 k0_hw122 k0_h2 => k0_hw122.1 k0_h2
theorem k0_off497_inb : ∀ (i : grid0.Coords) (v1897 : BitVec 32) (k0_hw122 : k0_chk122 i v1897), ∀ (k0_h2 : k0_cond2 i = 1#1), ∀ a, (k0_off497 v1897) a + S8x128.size a ≤ S131072x128.size a := fun i v1897 k0_hw122 k0_h2 => k0_hw122.2 k0_h2

def k0_off498 (i : grid0.Coords) : Fin 3 → Nat :=
  let c0_1140 : Index := 0#32
  let c0_1141 : Index := 0#32
  let arg1 : BitVec 32 := BitVec.ofNat 32 (i 1).val
  let c2_i32_1136 : BitVec 32 := 2#32
  let v1906 : BitVec 32 := Scalar.muli arg1 c2_i32_1136
  let c0_i32_1137 : BitVec 32 := 0#32
  let v1907 : BitVec 32 := Scalar.addi v1906 c0_i32_1137
  let c256_i32_1138 : BitVec 32 := 256#32
  let v1908 : BitVec 32 := Scalar.muli v1907 c256_i32_1138
  let c121_i32 : BitVec 32 := 121#32
  let v1909 : BitVec 32 := Scalar.addi v1908 c121_i32
  let v1911 : Index := Scalar.indexCast v1909
  ![0, 0, v1911.toNat]
def k0_mult245 (v1912 : BitVec 32) : BitVec 32 :=
  v1912

def k0_mult246 (i : grid0.Coords) : BitVec 32 :=
  let arg1 : BitVec 32 := BitVec.ofNat 32 (i 1).val
  let c2_i32_1136 : BitVec 32 := 2#32
  let v1906 : BitVec 32 := Scalar.muli arg1 c2_i32_1136
  let c0_i32_1137 : BitVec 32 := 0#32
  let v1907 : BitVec 32 := Scalar.addi v1906 c0_i32_1137
  let c256_i32_1138 : BitVec 32 := 256#32
  let v1908 : BitVec 32 := Scalar.muli v1907 c256_i32_1138
  let c121_i32 : BitVec 32 := 121#32
  let v1909 : BitVec 32 := Scalar.addi v1908 c121_i32
  let c8_i32_1142 : BitVec 32 := 8#32
  let v1914 : BitVec 32 := Scalar.muli v1909 c8_i32_1142
  v1914
def k0_off499 (i : grid0.Coords) : Fin 1 → Nat :=
  let c1_i32_1139 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1910 : BitVec 32 := Scalar.subi c1_i32_1139 v9
  ![v1910.toNat]
def k0_off500 (i : grid0.Coords) : Fin 3 → Nat :=
  let c1_i32_1139 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1910 : BitVec 32 := Scalar.subi c1_i32_1139 v9
  let arg1 : BitVec 32 := BitVec.ofNat 32 (i 1).val
  let c2_i32_1136 : BitVec 32 := 2#32
  let v1906 : BitVec 32 := Scalar.muli arg1 c2_i32_1136
  let c0_i32_1137 : BitVec 32 := 0#32
  let v1907 : BitVec 32 := Scalar.addi v1906 c0_i32_1137
  let c256_i32_1138 : BitVec 32 := 256#32
  let v1908 : BitVec 32 := Scalar.muli v1907 c256_i32_1138
  let c121_i32 : BitVec 32 := 121#32
  let v1909 : BitVec 32 := Scalar.addi v1908 c121_i32
  let c8_i32_1142 : BitVec 32 := 8#32
  let v1914 : BitVec 32 := Scalar.muli v1909 c8_i32_1142
  let v1915 : BitVec 32 := v1914
  let c0_i32_1143 : BitVec 32 := 0#32
  ![v1910.toNat, v1915.toNat, 0]
def k0_off501 (v1912 : BitVec 32) : Fin 2 → Nat :=
  let v1913 : BitVec 32 := v1912
  let c0_i32_1144 : BitVec 32 := 0#32
  ![v1913.toNat, 0]

def k0_chk123 (i : grid0.Coords) (v1912 : BitVec 32) : Prop :=
  (∀ (k0_h2 : k0_cond2 i = 1#1), 8 ∣ (k0_mult245 v1912).toNat) ∧
  (∀ (k0_h2 : k0_cond2 i = 1#1), ∀ a, (k0_off501 v1912) a + S8x128.size a ≤ S131072x128.size a)
theorem k0_mult245_dvd : ∀ (i : grid0.Coords) (v1912 : BitVec 32) (k0_hw123 : k0_chk123 i v1912), ∀ (k0_h2 : k0_cond2 i = 1#1), 8 ∣ (k0_mult245 v1912).toNat := fun i v1912 k0_hw123 k0_h2 => k0_hw123.1 k0_h2
theorem k0_off501_inb : ∀ (i : grid0.Coords) (v1912 : BitVec 32) (k0_hw123 : k0_chk123 i v1912), ∀ (k0_h2 : k0_cond2 i = 1#1), ∀ a, (k0_off501 v1912) a + S8x128.size a ≤ S131072x128.size a := fun i v1912 k0_hw123 k0_h2 => k0_hw123.2 k0_h2

def k0_off502 (i : grid0.Coords) : Fin 3 → Nat :=
  let c0_1149 : Index := 0#32
  let c0_1150 : Index := 0#32
  let arg1 : BitVec 32 := BitVec.ofNat 32 (i 1).val
  let c2_i32_1145 : BitVec 32 := 2#32
  let v1921 : BitVec 32 := Scalar.muli arg1 c2_i32_1145
  let c0_i32_1146 : BitVec 32 := 0#32
  let v1922 : BitVec 32 := Scalar.addi v1921 c0_i32_1146
  let c256_i32_1147 : BitVec 32 := 256#32
  let v1923 : BitVec 32 := Scalar.muli v1922 c256_i32_1147
  let c122_i32 : BitVec 32 := 122#32
  let v1924 : BitVec 32 := Scalar.addi v1923 c122_i32
  let v1926 : Index := Scalar.indexCast v1924
  ![0, 0, v1926.toNat]
def k0_mult247 (v1927 : BitVec 32) : BitVec 32 :=
  v1927

def k0_mult248 (i : grid0.Coords) : BitVec 32 :=
  let arg1 : BitVec 32 := BitVec.ofNat 32 (i 1).val
  let c2_i32_1145 : BitVec 32 := 2#32
  let v1921 : BitVec 32 := Scalar.muli arg1 c2_i32_1145
  let c0_i32_1146 : BitVec 32 := 0#32
  let v1922 : BitVec 32 := Scalar.addi v1921 c0_i32_1146
  let c256_i32_1147 : BitVec 32 := 256#32
  let v1923 : BitVec 32 := Scalar.muli v1922 c256_i32_1147
  let c122_i32 : BitVec 32 := 122#32
  let v1924 : BitVec 32 := Scalar.addi v1923 c122_i32
  let c8_i32_1151 : BitVec 32 := 8#32
  let v1929 : BitVec 32 := Scalar.muli v1924 c8_i32_1151
  v1929
def k0_off503 (i : grid0.Coords) : Fin 1 → Nat :=
  let c1_i32_1148 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1925 : BitVec 32 := Scalar.subi c1_i32_1148 v9
  ![v1925.toNat]
def k0_off504 (i : grid0.Coords) : Fin 3 → Nat :=
  let c1_i32_1148 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1925 : BitVec 32 := Scalar.subi c1_i32_1148 v9
  let arg1 : BitVec 32 := BitVec.ofNat 32 (i 1).val
  let c2_i32_1145 : BitVec 32 := 2#32
  let v1921 : BitVec 32 := Scalar.muli arg1 c2_i32_1145
  let c0_i32_1146 : BitVec 32 := 0#32
  let v1922 : BitVec 32 := Scalar.addi v1921 c0_i32_1146
  let c256_i32_1147 : BitVec 32 := 256#32
  let v1923 : BitVec 32 := Scalar.muli v1922 c256_i32_1147
  let c122_i32 : BitVec 32 := 122#32
  let v1924 : BitVec 32 := Scalar.addi v1923 c122_i32
  let c8_i32_1151 : BitVec 32 := 8#32
  let v1929 : BitVec 32 := Scalar.muli v1924 c8_i32_1151
  let v1930 : BitVec 32 := v1929
  let c0_i32_1152 : BitVec 32 := 0#32
  ![v1925.toNat, v1930.toNat, 0]
def k0_off505 (v1927 : BitVec 32) : Fin 2 → Nat :=
  let v1928 : BitVec 32 := v1927
  let c0_i32_1153 : BitVec 32 := 0#32
  ![v1928.toNat, 0]

def k0_chk124 (i : grid0.Coords) (v1927 : BitVec 32) : Prop :=
  (∀ (k0_h2 : k0_cond2 i = 1#1), 8 ∣ (k0_mult247 v1927).toNat) ∧
  (∀ (k0_h2 : k0_cond2 i = 1#1), ∀ a, (k0_off505 v1927) a + S8x128.size a ≤ S131072x128.size a)
theorem k0_mult247_dvd : ∀ (i : grid0.Coords) (v1927 : BitVec 32) (k0_hw124 : k0_chk124 i v1927), ∀ (k0_h2 : k0_cond2 i = 1#1), 8 ∣ (k0_mult247 v1927).toNat := fun i v1927 k0_hw124 k0_h2 => k0_hw124.1 k0_h2
theorem k0_off505_inb : ∀ (i : grid0.Coords) (v1927 : BitVec 32) (k0_hw124 : k0_chk124 i v1927), ∀ (k0_h2 : k0_cond2 i = 1#1), ∀ a, (k0_off505 v1927) a + S8x128.size a ≤ S131072x128.size a := fun i v1927 k0_hw124 k0_h2 => k0_hw124.2 k0_h2

def k0_off506 (i : grid0.Coords) : Fin 3 → Nat :=
  let c0_1158 : Index := 0#32
  let c0_1159 : Index := 0#32
  let arg1 : BitVec 32 := BitVec.ofNat 32 (i 1).val
  let c2_i32_1154 : BitVec 32 := 2#32
  let v1936 : BitVec 32 := Scalar.muli arg1 c2_i32_1154
  let c0_i32_1155 : BitVec 32 := 0#32
  let v1937 : BitVec 32 := Scalar.addi v1936 c0_i32_1155
  let c256_i32_1156 : BitVec 32 := 256#32
  let v1938 : BitVec 32 := Scalar.muli v1937 c256_i32_1156
  let c123_i32 : BitVec 32 := 123#32
  let v1939 : BitVec 32 := Scalar.addi v1938 c123_i32
  let v1941 : Index := Scalar.indexCast v1939
  ![0, 0, v1941.toNat]
def k0_mult249 (v1942 : BitVec 32) : BitVec 32 :=
  v1942

def k0_mult250 (i : grid0.Coords) : BitVec 32 :=
  let arg1 : BitVec 32 := BitVec.ofNat 32 (i 1).val
  let c2_i32_1154 : BitVec 32 := 2#32
  let v1936 : BitVec 32 := Scalar.muli arg1 c2_i32_1154
  let c0_i32_1155 : BitVec 32 := 0#32
  let v1937 : BitVec 32 := Scalar.addi v1936 c0_i32_1155
  let c256_i32_1156 : BitVec 32 := 256#32
  let v1938 : BitVec 32 := Scalar.muli v1937 c256_i32_1156
  let c123_i32 : BitVec 32 := 123#32
  let v1939 : BitVec 32 := Scalar.addi v1938 c123_i32
  let c8_i32_1160 : BitVec 32 := 8#32
  let v1944 : BitVec 32 := Scalar.muli v1939 c8_i32_1160
  v1944
def k0_off507 (i : grid0.Coords) : Fin 1 → Nat :=
  let c1_i32_1157 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1940 : BitVec 32 := Scalar.subi c1_i32_1157 v9
  ![v1940.toNat]
def k0_off508 (i : grid0.Coords) : Fin 3 → Nat :=
  let c1_i32_1157 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1940 : BitVec 32 := Scalar.subi c1_i32_1157 v9
  let arg1 : BitVec 32 := BitVec.ofNat 32 (i 1).val
  let c2_i32_1154 : BitVec 32 := 2#32
  let v1936 : BitVec 32 := Scalar.muli arg1 c2_i32_1154
  let c0_i32_1155 : BitVec 32 := 0#32
  let v1937 : BitVec 32 := Scalar.addi v1936 c0_i32_1155
  let c256_i32_1156 : BitVec 32 := 256#32
  let v1938 : BitVec 32 := Scalar.muli v1937 c256_i32_1156
  let c123_i32 : BitVec 32 := 123#32
  let v1939 : BitVec 32 := Scalar.addi v1938 c123_i32
  let c8_i32_1160 : BitVec 32 := 8#32
  let v1944 : BitVec 32 := Scalar.muli v1939 c8_i32_1160
  let v1945 : BitVec 32 := v1944
  let c0_i32_1161 : BitVec 32 := 0#32
  ![v1940.toNat, v1945.toNat, 0]
def k0_off509 (v1942 : BitVec 32) : Fin 2 → Nat :=
  let v1943 : BitVec 32 := v1942
  let c0_i32_1162 : BitVec 32 := 0#32
  ![v1943.toNat, 0]

def k0_chk125 (i : grid0.Coords) (v1942 : BitVec 32) : Prop :=
  (∀ (k0_h2 : k0_cond2 i = 1#1), 8 ∣ (k0_mult249 v1942).toNat) ∧
  (∀ (k0_h2 : k0_cond2 i = 1#1), ∀ a, (k0_off509 v1942) a + S8x128.size a ≤ S131072x128.size a)
theorem k0_mult249_dvd : ∀ (i : grid0.Coords) (v1942 : BitVec 32) (k0_hw125 : k0_chk125 i v1942), ∀ (k0_h2 : k0_cond2 i = 1#1), 8 ∣ (k0_mult249 v1942).toNat := fun i v1942 k0_hw125 k0_h2 => k0_hw125.1 k0_h2
theorem k0_off509_inb : ∀ (i : grid0.Coords) (v1942 : BitVec 32) (k0_hw125 : k0_chk125 i v1942), ∀ (k0_h2 : k0_cond2 i = 1#1), ∀ a, (k0_off509 v1942) a + S8x128.size a ≤ S131072x128.size a := fun i v1942 k0_hw125 k0_h2 => k0_hw125.2 k0_h2

def k0_off510 (i : grid0.Coords) : Fin 3 → Nat :=
  let c0_1167 : Index := 0#32
  let c0_1168 : Index := 0#32
  let arg1 : BitVec 32 := BitVec.ofNat 32 (i 1).val
  let c2_i32_1163 : BitVec 32 := 2#32
  let v1951 : BitVec 32 := Scalar.muli arg1 c2_i32_1163
  let c0_i32_1164 : BitVec 32 := 0#32
  let v1952 : BitVec 32 := Scalar.addi v1951 c0_i32_1164
  let c256_i32_1165 : BitVec 32 := 256#32
  let v1953 : BitVec 32 := Scalar.muli v1952 c256_i32_1165
  let c124_i32 : BitVec 32 := 124#32
  let v1954 : BitVec 32 := Scalar.addi v1953 c124_i32
  let v1956 : Index := Scalar.indexCast v1954
  ![0, 0, v1956.toNat]
def k0_mult251 (v1957 : BitVec 32) : BitVec 32 :=
  v1957

def k0_mult252 (i : grid0.Coords) : BitVec 32 :=
  let arg1 : BitVec 32 := BitVec.ofNat 32 (i 1).val
  let c2_i32_1163 : BitVec 32 := 2#32
  let v1951 : BitVec 32 := Scalar.muli arg1 c2_i32_1163
  let c0_i32_1164 : BitVec 32 := 0#32
  let v1952 : BitVec 32 := Scalar.addi v1951 c0_i32_1164
  let c256_i32_1165 : BitVec 32 := 256#32
  let v1953 : BitVec 32 := Scalar.muli v1952 c256_i32_1165
  let c124_i32 : BitVec 32 := 124#32
  let v1954 : BitVec 32 := Scalar.addi v1953 c124_i32
  let c8_i32_1169 : BitVec 32 := 8#32
  let v1959 : BitVec 32 := Scalar.muli v1954 c8_i32_1169
  v1959
def k0_off511 (i : grid0.Coords) : Fin 1 → Nat :=
  let c1_i32_1166 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1955 : BitVec 32 := Scalar.subi c1_i32_1166 v9
  ![v1955.toNat]
def k0_off512 (i : grid0.Coords) : Fin 3 → Nat :=
  let c1_i32_1166 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1955 : BitVec 32 := Scalar.subi c1_i32_1166 v9
  let arg1 : BitVec 32 := BitVec.ofNat 32 (i 1).val
  let c2_i32_1163 : BitVec 32 := 2#32
  let v1951 : BitVec 32 := Scalar.muli arg1 c2_i32_1163
  let c0_i32_1164 : BitVec 32 := 0#32
  let v1952 : BitVec 32 := Scalar.addi v1951 c0_i32_1164
  let c256_i32_1165 : BitVec 32 := 256#32
  let v1953 : BitVec 32 := Scalar.muli v1952 c256_i32_1165
  let c124_i32 : BitVec 32 := 124#32
  let v1954 : BitVec 32 := Scalar.addi v1953 c124_i32
  let c8_i32_1169 : BitVec 32 := 8#32
  let v1959 : BitVec 32 := Scalar.muli v1954 c8_i32_1169
  let v1960 : BitVec 32 := v1959
  let c0_i32_1170 : BitVec 32 := 0#32
  ![v1955.toNat, v1960.toNat, 0]
def k0_off513 (v1957 : BitVec 32) : Fin 2 → Nat :=
  let v1958 : BitVec 32 := v1957
  let c0_i32_1171 : BitVec 32 := 0#32
  ![v1958.toNat, 0]

def k0_chk126 (i : grid0.Coords) (v1957 : BitVec 32) : Prop :=
  (∀ (k0_h2 : k0_cond2 i = 1#1), 8 ∣ (k0_mult251 v1957).toNat) ∧
  (∀ (k0_h2 : k0_cond2 i = 1#1), ∀ a, (k0_off513 v1957) a + S8x128.size a ≤ S131072x128.size a)
theorem k0_mult251_dvd : ∀ (i : grid0.Coords) (v1957 : BitVec 32) (k0_hw126 : k0_chk126 i v1957), ∀ (k0_h2 : k0_cond2 i = 1#1), 8 ∣ (k0_mult251 v1957).toNat := fun i v1957 k0_hw126 k0_h2 => k0_hw126.1 k0_h2
theorem k0_off513_inb : ∀ (i : grid0.Coords) (v1957 : BitVec 32) (k0_hw126 : k0_chk126 i v1957), ∀ (k0_h2 : k0_cond2 i = 1#1), ∀ a, (k0_off513 v1957) a + S8x128.size a ≤ S131072x128.size a := fun i v1957 k0_hw126 k0_h2 => k0_hw126.2 k0_h2

def k0_off514 (i : grid0.Coords) : Fin 3 → Nat :=
  let c0_1176 : Index := 0#32
  let c0_1177 : Index := 0#32
  let arg1 : BitVec 32 := BitVec.ofNat 32 (i 1).val
  let c2_i32_1172 : BitVec 32 := 2#32
  let v1966 : BitVec 32 := Scalar.muli arg1 c2_i32_1172
  let c0_i32_1173 : BitVec 32 := 0#32
  let v1967 : BitVec 32 := Scalar.addi v1966 c0_i32_1173
  let c256_i32_1174 : BitVec 32 := 256#32
  let v1968 : BitVec 32 := Scalar.muli v1967 c256_i32_1174
  let c125_i32 : BitVec 32 := 125#32
  let v1969 : BitVec 32 := Scalar.addi v1968 c125_i32
  let v1971 : Index := Scalar.indexCast v1969
  ![0, 0, v1971.toNat]
def k0_mult253 (v1972 : BitVec 32) : BitVec 32 :=
  v1972

def k0_mult254 (i : grid0.Coords) : BitVec 32 :=
  let arg1 : BitVec 32 := BitVec.ofNat 32 (i 1).val
  let c2_i32_1172 : BitVec 32 := 2#32
  let v1966 : BitVec 32 := Scalar.muli arg1 c2_i32_1172
  let c0_i32_1173 : BitVec 32 := 0#32
  let v1967 : BitVec 32 := Scalar.addi v1966 c0_i32_1173
  let c256_i32_1174 : BitVec 32 := 256#32
  let v1968 : BitVec 32 := Scalar.muli v1967 c256_i32_1174
  let c125_i32 : BitVec 32 := 125#32
  let v1969 : BitVec 32 := Scalar.addi v1968 c125_i32
  let c8_i32_1178 : BitVec 32 := 8#32
  let v1974 : BitVec 32 := Scalar.muli v1969 c8_i32_1178
  v1974
def k0_off515 (i : grid0.Coords) : Fin 1 → Nat :=
  let c1_i32_1175 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1970 : BitVec 32 := Scalar.subi c1_i32_1175 v9
  ![v1970.toNat]
def k0_off516 (i : grid0.Coords) : Fin 3 → Nat :=
  let c1_i32_1175 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1970 : BitVec 32 := Scalar.subi c1_i32_1175 v9
  let arg1 : BitVec 32 := BitVec.ofNat 32 (i 1).val
  let c2_i32_1172 : BitVec 32 := 2#32
  let v1966 : BitVec 32 := Scalar.muli arg1 c2_i32_1172
  let c0_i32_1173 : BitVec 32 := 0#32
  let v1967 : BitVec 32 := Scalar.addi v1966 c0_i32_1173
  let c256_i32_1174 : BitVec 32 := 256#32
  let v1968 : BitVec 32 := Scalar.muli v1967 c256_i32_1174
  let c125_i32 : BitVec 32 := 125#32
  let v1969 : BitVec 32 := Scalar.addi v1968 c125_i32
  let c8_i32_1178 : BitVec 32 := 8#32
  let v1974 : BitVec 32 := Scalar.muli v1969 c8_i32_1178
  let v1975 : BitVec 32 := v1974
  let c0_i32_1179 : BitVec 32 := 0#32
  ![v1970.toNat, v1975.toNat, 0]
def k0_off517 (v1972 : BitVec 32) : Fin 2 → Nat :=
  let v1973 : BitVec 32 := v1972
  let c0_i32_1180 : BitVec 32 := 0#32
  ![v1973.toNat, 0]

def k0_chk127 (i : grid0.Coords) (v1972 : BitVec 32) : Prop :=
  (∀ (k0_h2 : k0_cond2 i = 1#1), 8 ∣ (k0_mult253 v1972).toNat) ∧
  (∀ (k0_h2 : k0_cond2 i = 1#1), ∀ a, (k0_off517 v1972) a + S8x128.size a ≤ S131072x128.size a)
theorem k0_mult253_dvd : ∀ (i : grid0.Coords) (v1972 : BitVec 32) (k0_hw127 : k0_chk127 i v1972), ∀ (k0_h2 : k0_cond2 i = 1#1), 8 ∣ (k0_mult253 v1972).toNat := fun i v1972 k0_hw127 k0_h2 => k0_hw127.1 k0_h2
theorem k0_off517_inb : ∀ (i : grid0.Coords) (v1972 : BitVec 32) (k0_hw127 : k0_chk127 i v1972), ∀ (k0_h2 : k0_cond2 i = 1#1), ∀ a, (k0_off517 v1972) a + S8x128.size a ≤ S131072x128.size a := fun i v1972 k0_hw127 k0_h2 => k0_hw127.2 k0_h2

def k0_off518 (i : grid0.Coords) : Fin 3 → Nat :=
  let c0_1185 : Index := 0#32
  let c0_1186 : Index := 0#32
  let arg1 : BitVec 32 := BitVec.ofNat 32 (i 1).val
  let c2_i32_1181 : BitVec 32 := 2#32
  let v1981 : BitVec 32 := Scalar.muli arg1 c2_i32_1181
  let c0_i32_1182 : BitVec 32 := 0#32
  let v1982 : BitVec 32 := Scalar.addi v1981 c0_i32_1182
  let c256_i32_1183 : BitVec 32 := 256#32
  let v1983 : BitVec 32 := Scalar.muli v1982 c256_i32_1183
  let c126_i32 : BitVec 32 := 126#32
  let v1984 : BitVec 32 := Scalar.addi v1983 c126_i32
  let v1986 : Index := Scalar.indexCast v1984
  ![0, 0, v1986.toNat]
def k0_mult255 (v1987 : BitVec 32) : BitVec 32 :=
  v1987

def k0_mult256 (i : grid0.Coords) : BitVec 32 :=
  let arg1 : BitVec 32 := BitVec.ofNat 32 (i 1).val
  let c2_i32_1181 : BitVec 32 := 2#32
  let v1981 : BitVec 32 := Scalar.muli arg1 c2_i32_1181
  let c0_i32_1182 : BitVec 32 := 0#32
  let v1982 : BitVec 32 := Scalar.addi v1981 c0_i32_1182
  let c256_i32_1183 : BitVec 32 := 256#32
  let v1983 : BitVec 32 := Scalar.muli v1982 c256_i32_1183
  let c126_i32 : BitVec 32 := 126#32
  let v1984 : BitVec 32 := Scalar.addi v1983 c126_i32
  let c8_i32_1187 : BitVec 32 := 8#32
  let v1989 : BitVec 32 := Scalar.muli v1984 c8_i32_1187
  v1989
def k0_off519 (i : grid0.Coords) : Fin 1 → Nat :=
  let c1_i32_1184 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1985 : BitVec 32 := Scalar.subi c1_i32_1184 v9
  ![v1985.toNat]
def k0_off520 (i : grid0.Coords) : Fin 3 → Nat :=
  let c1_i32_1184 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1985 : BitVec 32 := Scalar.subi c1_i32_1184 v9
  let arg1 : BitVec 32 := BitVec.ofNat 32 (i 1).val
  let c2_i32_1181 : BitVec 32 := 2#32
  let v1981 : BitVec 32 := Scalar.muli arg1 c2_i32_1181
  let c0_i32_1182 : BitVec 32 := 0#32
  let v1982 : BitVec 32 := Scalar.addi v1981 c0_i32_1182
  let c256_i32_1183 : BitVec 32 := 256#32
  let v1983 : BitVec 32 := Scalar.muli v1982 c256_i32_1183
  let c126_i32 : BitVec 32 := 126#32
  let v1984 : BitVec 32 := Scalar.addi v1983 c126_i32
  let c8_i32_1187 : BitVec 32 := 8#32
  let v1989 : BitVec 32 := Scalar.muli v1984 c8_i32_1187
  let v1990 : BitVec 32 := v1989
  let c0_i32_1188 : BitVec 32 := 0#32
  ![v1985.toNat, v1990.toNat, 0]
def k0_off521 (v1987 : BitVec 32) : Fin 2 → Nat :=
  let v1988 : BitVec 32 := v1987
  let c0_i32_1189 : BitVec 32 := 0#32
  ![v1988.toNat, 0]

def k0_chk128 (i : grid0.Coords) (v1987 : BitVec 32) : Prop :=
  (∀ (k0_h2 : k0_cond2 i = 1#1), 8 ∣ (k0_mult255 v1987).toNat) ∧
  (∀ (k0_h2 : k0_cond2 i = 1#1), ∀ a, (k0_off521 v1987) a + S8x128.size a ≤ S131072x128.size a)
theorem k0_mult255_dvd : ∀ (i : grid0.Coords) (v1987 : BitVec 32) (k0_hw128 : k0_chk128 i v1987), ∀ (k0_h2 : k0_cond2 i = 1#1), 8 ∣ (k0_mult255 v1987).toNat := fun i v1987 k0_hw128 k0_h2 => k0_hw128.1 k0_h2
theorem k0_off521_inb : ∀ (i : grid0.Coords) (v1987 : BitVec 32) (k0_hw128 : k0_chk128 i v1987), ∀ (k0_h2 : k0_cond2 i = 1#1), ∀ a, (k0_off521 v1987) a + S8x128.size a ≤ S131072x128.size a := fun i v1987 k0_hw128 k0_h2 => k0_hw128.2 k0_h2

def k0_off522 (i : grid0.Coords) : Fin 3 → Nat :=
  let c0_1194 : Index := 0#32
  let c0_1195 : Index := 0#32
  let arg1 : BitVec 32 := BitVec.ofNat 32 (i 1).val
  let c2_i32_1190 : BitVec 32 := 2#32
  let v1996 : BitVec 32 := Scalar.muli arg1 c2_i32_1190
  let c0_i32_1191 : BitVec 32 := 0#32
  let v1997 : BitVec 32 := Scalar.addi v1996 c0_i32_1191
  let c256_i32_1192 : BitVec 32 := 256#32
  let v1998 : BitVec 32 := Scalar.muli v1997 c256_i32_1192
  let c127_i32 : BitVec 32 := 127#32
  let v1999 : BitVec 32 := Scalar.addi v1998 c127_i32
  let v2001 : Index := Scalar.indexCast v1999
  ![0, 0, v2001.toNat]
def k0_mult257 (v2002 : BitVec 32) : BitVec 32 :=
  v2002

def k0_mult258 (i : grid0.Coords) : BitVec 32 :=
  let arg1 : BitVec 32 := BitVec.ofNat 32 (i 1).val
  let c2_i32_1190 : BitVec 32 := 2#32
  let v1996 : BitVec 32 := Scalar.muli arg1 c2_i32_1190
  let c0_i32_1191 : BitVec 32 := 0#32
  let v1997 : BitVec 32 := Scalar.addi v1996 c0_i32_1191
  let c256_i32_1192 : BitVec 32 := 256#32
  let v1998 : BitVec 32 := Scalar.muli v1997 c256_i32_1192
  let c127_i32 : BitVec 32 := 127#32
  let v1999 : BitVec 32 := Scalar.addi v1998 c127_i32
  let c8_i32_1196 : BitVec 32 := 8#32
  let v2004 : BitVec 32 := Scalar.muli v1999 c8_i32_1196
  v2004
def k0_off523 (i : grid0.Coords) : Fin 1 → Nat :=
  let c1_i32_1193 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2000 : BitVec 32 := Scalar.subi c1_i32_1193 v9
  ![v2000.toNat]
def k0_off524 (i : grid0.Coords) : Fin 3 → Nat :=
  let c1_i32_1193 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2000 : BitVec 32 := Scalar.subi c1_i32_1193 v9
  let arg1 : BitVec 32 := BitVec.ofNat 32 (i 1).val
  let c2_i32_1190 : BitVec 32 := 2#32
  let v1996 : BitVec 32 := Scalar.muli arg1 c2_i32_1190
  let c0_i32_1191 : BitVec 32 := 0#32
  let v1997 : BitVec 32 := Scalar.addi v1996 c0_i32_1191
  let c256_i32_1192 : BitVec 32 := 256#32
  let v1998 : BitVec 32 := Scalar.muli v1997 c256_i32_1192
  let c127_i32 : BitVec 32 := 127#32
  let v1999 : BitVec 32 := Scalar.addi v1998 c127_i32
  let c8_i32_1196 : BitVec 32 := 8#32
  let v2004 : BitVec 32 := Scalar.muli v1999 c8_i32_1196
  let v2005 : BitVec 32 := v2004
  let c0_i32_1197 : BitVec 32 := 0#32
  ![v2000.toNat, v2005.toNat, 0]
def k0_off525 (v2002 : BitVec 32) : Fin 2 → Nat :=
  let v2003 : BitVec 32 := v2002
  let c0_i32_1198 : BitVec 32 := 0#32
  ![v2003.toNat, 0]

def k0_chk129 (i : grid0.Coords) (v2002 : BitVec 32) : Prop :=
  (∀ (k0_h2 : k0_cond2 i = 1#1), 8 ∣ (k0_mult257 v2002).toNat) ∧
  (∀ (k0_h2 : k0_cond2 i = 1#1), ∀ a, (k0_off525 v2002) a + S8x128.size a ≤ S131072x128.size a)
theorem k0_mult257_dvd : ∀ (i : grid0.Coords) (v2002 : BitVec 32) (k0_hw129 : k0_chk129 i v2002), ∀ (k0_h2 : k0_cond2 i = 1#1), 8 ∣ (k0_mult257 v2002).toNat := fun i v2002 k0_hw129 k0_h2 => k0_hw129.1 k0_h2
theorem k0_off525_inb : ∀ (i : grid0.Coords) (v2002 : BitVec 32) (k0_hw129 : k0_chk129 i v2002), ∀ (k0_h2 : k0_cond2 i = 1#1), ∀ a, (k0_off525 v2002) a + S8x128.size a ≤ S131072x128.size a := fun i v2002 k0_hw129 k0_h2 => k0_hw129.2 k0_h2

def k0_off526 (i : grid0.Coords) : Fin 3 → Nat :=
  let c0_1203 : Index := 0#32
  let c0_1204 : Index := 0#32
  let arg1 : BitVec 32 := BitVec.ofNat 32 (i 1).val
  let c2_i32_1199 : BitVec 32 := 2#32
  let v2011 : BitVec 32 := Scalar.muli arg1 c2_i32_1199
  let c0_i32_1200 : BitVec 32 := 0#32
  let v2012 : BitVec 32 := Scalar.addi v2011 c0_i32_1200
  let c256_i32_1201 : BitVec 32 := 256#32
  let v2013 : BitVec 32 := Scalar.muli v2012 c256_i32_1201
  let c128_i32 : BitVec 32 := 128#32
  let v2014 : BitVec 32 := Scalar.addi v2013 c128_i32
  let v2016 : Index := Scalar.indexCast v2014
  ![0, 0, v2016.toNat]
def k0_mult259 (v2017 : BitVec 32) : BitVec 32 :=
  v2017

def k0_mult260 (i : grid0.Coords) : BitVec 32 :=
  let arg1 : BitVec 32 := BitVec.ofNat 32 (i 1).val
  let c2_i32_1199 : BitVec 32 := 2#32
  let v2011 : BitVec 32 := Scalar.muli arg1 c2_i32_1199
  let c0_i32_1200 : BitVec 32 := 0#32
  let v2012 : BitVec 32 := Scalar.addi v2011 c0_i32_1200
  let c256_i32_1201 : BitVec 32 := 256#32
  let v2013 : BitVec 32 := Scalar.muli v2012 c256_i32_1201
  let c128_i32 : BitVec 32 := 128#32
  let v2014 : BitVec 32 := Scalar.addi v2013 c128_i32
  let c8_i32_1205 : BitVec 32 := 8#32
  let v2019 : BitVec 32 := Scalar.muli v2014 c8_i32_1205
  v2019
def k0_off527 (i : grid0.Coords) : Fin 1 → Nat :=
  let c1_i32_1202 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2015 : BitVec 32 := Scalar.subi c1_i32_1202 v9
  ![v2015.toNat]
def k0_off528 (i : grid0.Coords) : Fin 3 → Nat :=
  let c1_i32_1202 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2015 : BitVec 32 := Scalar.subi c1_i32_1202 v9
  let arg1 : BitVec 32 := BitVec.ofNat 32 (i 1).val
  let c2_i32_1199 : BitVec 32 := 2#32
  let v2011 : BitVec 32 := Scalar.muli arg1 c2_i32_1199
  let c0_i32_1200 : BitVec 32 := 0#32
  let v2012 : BitVec 32 := Scalar.addi v2011 c0_i32_1200
  let c256_i32_1201 : BitVec 32 := 256#32
  let v2013 : BitVec 32 := Scalar.muli v2012 c256_i32_1201
  let c128_i32 : BitVec 32 := 128#32
  let v2014 : BitVec 32 := Scalar.addi v2013 c128_i32
  let c8_i32_1205 : BitVec 32 := 8#32
  let v2019 : BitVec 32 := Scalar.muli v2014 c8_i32_1205
  let v2020 : BitVec 32 := v2019
  let c0_i32_1206 : BitVec 32 := 0#32
  ![v2015.toNat, v2020.toNat, 0]
def k0_off529 (v2017 : BitVec 32) : Fin 2 → Nat :=
  let v2018 : BitVec 32 := v2017
  let c0_i32_1207 : BitVec 32 := 0#32
  ![v2018.toNat, 0]

def k0_chk130 (i : grid0.Coords) (v2017 : BitVec 32) : Prop :=
  (∀ (k0_h2 : k0_cond2 i = 1#1), 8 ∣ (k0_mult259 v2017).toNat) ∧
  (∀ (k0_h2 : k0_cond2 i = 1#1), ∀ a, (k0_off529 v2017) a + S8x128.size a ≤ S131072x128.size a)
theorem k0_mult259_dvd : ∀ (i : grid0.Coords) (v2017 : BitVec 32) (k0_hw130 : k0_chk130 i v2017), ∀ (k0_h2 : k0_cond2 i = 1#1), 8 ∣ (k0_mult259 v2017).toNat := fun i v2017 k0_hw130 k0_h2 => k0_hw130.1 k0_h2
theorem k0_off529_inb : ∀ (i : grid0.Coords) (v2017 : BitVec 32) (k0_hw130 : k0_chk130 i v2017), ∀ (k0_h2 : k0_cond2 i = 1#1), ∀ a, (k0_off529 v2017) a + S8x128.size a ≤ S131072x128.size a := fun i v2017 k0_hw130 k0_h2 => k0_hw130.2 k0_h2

def k0_off530 (i : grid0.Coords) : Fin 3 → Nat :=
  let c0_1212 : Index := 0#32
  let c0_1213 : Index := 0#32
  let arg1 : BitVec 32 := BitVec.ofNat 32 (i 1).val
  let c2_i32_1208 : BitVec 32 := 2#32
  let v2026 : BitVec 32 := Scalar.muli arg1 c2_i32_1208
  let c0_i32_1209 : BitVec 32 := 0#32
  let v2027 : BitVec 32 := Scalar.addi v2026 c0_i32_1209
  let c256_i32_1210 : BitVec 32 := 256#32
  let v2028 : BitVec 32 := Scalar.muli v2027 c256_i32_1210
  let c129_i32 : BitVec 32 := 129#32
  let v2029 : BitVec 32 := Scalar.addi v2028 c129_i32
  let v2031 : Index := Scalar.indexCast v2029
  ![0, 0, v2031.toNat]
def k0_mult261 (v2032 : BitVec 32) : BitVec 32 :=
  v2032

def k0_mult262 (i : grid0.Coords) : BitVec 32 :=
  let arg1 : BitVec 32 := BitVec.ofNat 32 (i 1).val
  let c2_i32_1208 : BitVec 32 := 2#32
  let v2026 : BitVec 32 := Scalar.muli arg1 c2_i32_1208
  let c0_i32_1209 : BitVec 32 := 0#32
  let v2027 : BitVec 32 := Scalar.addi v2026 c0_i32_1209
  let c256_i32_1210 : BitVec 32 := 256#32
  let v2028 : BitVec 32 := Scalar.muli v2027 c256_i32_1210
  let c129_i32 : BitVec 32 := 129#32
  let v2029 : BitVec 32 := Scalar.addi v2028 c129_i32
  let c8_i32_1214 : BitVec 32 := 8#32
  let v2034 : BitVec 32 := Scalar.muli v2029 c8_i32_1214
  v2034
def k0_off531 (i : grid0.Coords) : Fin 1 → Nat :=
  let c1_i32_1211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2030 : BitVec 32 := Scalar.subi c1_i32_1211 v9
  ![v2030.toNat]
def k0_off532 (i : grid0.Coords) : Fin 3 → Nat :=
  let c1_i32_1211 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2030 : BitVec 32 := Scalar.subi c1_i32_1211 v9
  let arg1 : BitVec 32 := BitVec.ofNat 32 (i 1).val
  let c2_i32_1208 : BitVec 32 := 2#32
  let v2026 : BitVec 32 := Scalar.muli arg1 c2_i32_1208
  let c0_i32_1209 : BitVec 32 := 0#32
  let v2027 : BitVec 32 := Scalar.addi v2026 c0_i32_1209
  let c256_i32_1210 : BitVec 32 := 256#32
  let v2028 : BitVec 32 := Scalar.muli v2027 c256_i32_1210
  let c129_i32 : BitVec 32 := 129#32
  let v2029 : BitVec 32 := Scalar.addi v2028 c129_i32
  let c8_i32_1214 : BitVec 32 := 8#32
  let v2034 : BitVec 32 := Scalar.muli v2029 c8_i32_1214
  let v2035 : BitVec 32 := v2034
  let c0_i32_1215 : BitVec 32 := 0#32
  ![v2030.toNat, v2035.toNat, 0]
def k0_off533 (v2032 : BitVec 32) : Fin 2 → Nat :=
  let v2033 : BitVec 32 := v2032
  let c0_i32_1216 : BitVec 32 := 0#32
  ![v2033.toNat, 0]

def k0_chk131 (i : grid0.Coords) (v2032 : BitVec 32) : Prop :=
  (∀ (k0_h2 : k0_cond2 i = 1#1), 8 ∣ (k0_mult261 v2032).toNat) ∧
  (∀ (k0_h2 : k0_cond2 i = 1#1), ∀ a, (k0_off533 v2032) a + S8x128.size a ≤ S131072x128.size a)
theorem k0_mult261_dvd : ∀ (i : grid0.Coords) (v2032 : BitVec 32) (k0_hw131 : k0_chk131 i v2032), ∀ (k0_h2 : k0_cond2 i = 1#1), 8 ∣ (k0_mult261 v2032).toNat := fun i v2032 k0_hw131 k0_h2 => k0_hw131.1 k0_h2
theorem k0_off533_inb : ∀ (i : grid0.Coords) (v2032 : BitVec 32) (k0_hw131 : k0_chk131 i v2032), ∀ (k0_h2 : k0_cond2 i = 1#1), ∀ a, (k0_off533 v2032) a + S8x128.size a ≤ S131072x128.size a := fun i v2032 k0_hw131 k0_h2 => k0_hw131.2 k0_h2

def k0_off534 (i : grid0.Coords) : Fin 3 → Nat :=
  let c0_1221 : Index := 0#32
  let c0_1222 : Index := 0#32
  let arg1 : BitVec 32 := BitVec.ofNat 32 (i 1).val
  let c2_i32_1217 : BitVec 32 := 2#32
  let v2041 : BitVec 32 := Scalar.muli arg1 c2_i32_1217
  let c0_i32_1218 : BitVec 32 := 0#32
  let v2042 : BitVec 32 := Scalar.addi v2041 c0_i32_1218
  let c256_i32_1219 : BitVec 32 := 256#32
  let v2043 : BitVec 32 := Scalar.muli v2042 c256_i32_1219
  let c130_i32 : BitVec 32 := 130#32
  let v2044 : BitVec 32 := Scalar.addi v2043 c130_i32
  let v2046 : Index := Scalar.indexCast v2044
  ![0, 0, v2046.toNat]
def k0_mult263 (v2047 : BitVec 32) : BitVec 32 :=
  v2047

def k0_mult264 (i : grid0.Coords) : BitVec 32 :=
  let arg1 : BitVec 32 := BitVec.ofNat 32 (i 1).val
  let c2_i32_1217 : BitVec 32 := 2#32
  let v2041 : BitVec 32 := Scalar.muli arg1 c2_i32_1217
  let c0_i32_1218 : BitVec 32 := 0#32
  let v2042 : BitVec 32 := Scalar.addi v2041 c0_i32_1218
  let c256_i32_1219 : BitVec 32 := 256#32
  let v2043 : BitVec 32 := Scalar.muli v2042 c256_i32_1219
  let c130_i32 : BitVec 32 := 130#32
  let v2044 : BitVec 32 := Scalar.addi v2043 c130_i32
  let c8_i32_1223 : BitVec 32 := 8#32
  let v2049 : BitVec 32 := Scalar.muli v2044 c8_i32_1223
  v2049
def k0_off535 (i : grid0.Coords) : Fin 1 → Nat :=
  let c1_i32_1220 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2045 : BitVec 32 := Scalar.subi c1_i32_1220 v9
  ![v2045.toNat]
def k0_off536 (i : grid0.Coords) : Fin 3 → Nat :=
  let c1_i32_1220 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2045 : BitVec 32 := Scalar.subi c1_i32_1220 v9
  let arg1 : BitVec 32 := BitVec.ofNat 32 (i 1).val
  let c2_i32_1217 : BitVec 32 := 2#32
  let v2041 : BitVec 32 := Scalar.muli arg1 c2_i32_1217
  let c0_i32_1218 : BitVec 32 := 0#32
  let v2042 : BitVec 32 := Scalar.addi v2041 c0_i32_1218
  let c256_i32_1219 : BitVec 32 := 256#32
  let v2043 : BitVec 32 := Scalar.muli v2042 c256_i32_1219
  let c130_i32 : BitVec 32 := 130#32
  let v2044 : BitVec 32 := Scalar.addi v2043 c130_i32
  let c8_i32_1223 : BitVec 32 := 8#32
  let v2049 : BitVec 32 := Scalar.muli v2044 c8_i32_1223
  let v2050 : BitVec 32 := v2049
  let c0_i32_1224 : BitVec 32 := 0#32
  ![v2045.toNat, v2050.toNat, 0]
def k0_off537 (v2047 : BitVec 32) : Fin 2 → Nat :=
  let v2048 : BitVec 32 := v2047
  let c0_i32_1225 : BitVec 32 := 0#32
  ![v2048.toNat, 0]

def k0_chk132 (i : grid0.Coords) (v2047 : BitVec 32) : Prop :=
  (∀ (k0_h2 : k0_cond2 i = 1#1), 8 ∣ (k0_mult263 v2047).toNat) ∧
  (∀ (k0_h2 : k0_cond2 i = 1#1), ∀ a, (k0_off537 v2047) a + S8x128.size a ≤ S131072x128.size a)
theorem k0_mult263_dvd : ∀ (i : grid0.Coords) (v2047 : BitVec 32) (k0_hw132 : k0_chk132 i v2047), ∀ (k0_h2 : k0_cond2 i = 1#1), 8 ∣ (k0_mult263 v2047).toNat := fun i v2047 k0_hw132 k0_h2 => k0_hw132.1 k0_h2
theorem k0_off537_inb : ∀ (i : grid0.Coords) (v2047 : BitVec 32) (k0_hw132 : k0_chk132 i v2047), ∀ (k0_h2 : k0_cond2 i = 1#1), ∀ a, (k0_off537 v2047) a + S8x128.size a ≤ S131072x128.size a := fun i v2047 k0_hw132 k0_h2 => k0_hw132.2 k0_h2

def k0_off538 (i : grid0.Coords) : Fin 3 → Nat :=
  let c0_1230 : Index := 0#32
  let c0_1231 : Index := 0#32
  let arg1 : BitVec 32 := BitVec.ofNat 32 (i 1).val
  let c2_i32_1226 : BitVec 32 := 2#32
  let v2056 : BitVec 32 := Scalar.muli arg1 c2_i32_1226
  let c0_i32_1227 : BitVec 32 := 0#32
  let v2057 : BitVec 32 := Scalar.addi v2056 c0_i32_1227
  let c256_i32_1228 : BitVec 32 := 256#32
  let v2058 : BitVec 32 := Scalar.muli v2057 c256_i32_1228
  let c131_i32 : BitVec 32 := 131#32
  let v2059 : BitVec 32 := Scalar.addi v2058 c131_i32
  let v2061 : Index := Scalar.indexCast v2059
  ![0, 0, v2061.toNat]
def k0_mult265 (v2062 : BitVec 32) : BitVec 32 :=
  v2062

def k0_mult266 (i : grid0.Coords) : BitVec 32 :=
  let arg1 : BitVec 32 := BitVec.ofNat 32 (i 1).val
  let c2_i32_1226 : BitVec 32 := 2#32
  let v2056 : BitVec 32 := Scalar.muli arg1 c2_i32_1226
  let c0_i32_1227 : BitVec 32 := 0#32
  let v2057 : BitVec 32 := Scalar.addi v2056 c0_i32_1227
  let c256_i32_1228 : BitVec 32 := 256#32
  let v2058 : BitVec 32 := Scalar.muli v2057 c256_i32_1228
  let c131_i32 : BitVec 32 := 131#32
  let v2059 : BitVec 32 := Scalar.addi v2058 c131_i32
  let c8_i32_1232 : BitVec 32 := 8#32
  let v2064 : BitVec 32 := Scalar.muli v2059 c8_i32_1232
  v2064
def k0_off539 (i : grid0.Coords) : Fin 1 → Nat :=
  let c1_i32_1229 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2060 : BitVec 32 := Scalar.subi c1_i32_1229 v9
  ![v2060.toNat]
def k0_off540 (i : grid0.Coords) : Fin 3 → Nat :=
  let c1_i32_1229 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2060 : BitVec 32 := Scalar.subi c1_i32_1229 v9
  let arg1 : BitVec 32 := BitVec.ofNat 32 (i 1).val
  let c2_i32_1226 : BitVec 32 := 2#32
  let v2056 : BitVec 32 := Scalar.muli arg1 c2_i32_1226
  let c0_i32_1227 : BitVec 32 := 0#32
  let v2057 : BitVec 32 := Scalar.addi v2056 c0_i32_1227
  let c256_i32_1228 : BitVec 32 := 256#32
  let v2058 : BitVec 32 := Scalar.muli v2057 c256_i32_1228
  let c131_i32 : BitVec 32 := 131#32
  let v2059 : BitVec 32 := Scalar.addi v2058 c131_i32
  let c8_i32_1232 : BitVec 32 := 8#32
  let v2064 : BitVec 32 := Scalar.muli v2059 c8_i32_1232
  let v2065 : BitVec 32 := v2064
  let c0_i32_1233 : BitVec 32 := 0#32
  ![v2060.toNat, v2065.toNat, 0]
def k0_off541 (v2062 : BitVec 32) : Fin 2 → Nat :=
  let v2063 : BitVec 32 := v2062
  let c0_i32_1234 : BitVec 32 := 0#32
  ![v2063.toNat, 0]

def k0_chk133 (i : grid0.Coords) (v2062 : BitVec 32) : Prop :=
  (∀ (k0_h2 : k0_cond2 i = 1#1), 8 ∣ (k0_mult265 v2062).toNat) ∧
  (∀ (k0_h2 : k0_cond2 i = 1#1), ∀ a, (k0_off541 v2062) a + S8x128.size a ≤ S131072x128.size a)
theorem k0_mult265_dvd : ∀ (i : grid0.Coords) (v2062 : BitVec 32) (k0_hw133 : k0_chk133 i v2062), ∀ (k0_h2 : k0_cond2 i = 1#1), 8 ∣ (k0_mult265 v2062).toNat := fun i v2062 k0_hw133 k0_h2 => k0_hw133.1 k0_h2
theorem k0_off541_inb : ∀ (i : grid0.Coords) (v2062 : BitVec 32) (k0_hw133 : k0_chk133 i v2062), ∀ (k0_h2 : k0_cond2 i = 1#1), ∀ a, (k0_off541 v2062) a + S8x128.size a ≤ S131072x128.size a := fun i v2062 k0_hw133 k0_h2 => k0_hw133.2 k0_h2

def k0_off542 (i : grid0.Coords) : Fin 3 → Nat :=
  let c0_1239 : Index := 0#32
  let c0_1240 : Index := 0#32
  let arg1 : BitVec 32 := BitVec.ofNat 32 (i 1).val
  let c2_i32_1235 : BitVec 32 := 2#32
  let v2071 : BitVec 32 := Scalar.muli arg1 c2_i32_1235
  let c0_i32_1236 : BitVec 32 := 0#32
  let v2072 : BitVec 32 := Scalar.addi v2071 c0_i32_1236
  let c256_i32_1237 : BitVec 32 := 256#32
  let v2073 : BitVec 32 := Scalar.muli v2072 c256_i32_1237
  let c132_i32 : BitVec 32 := 132#32
  let v2074 : BitVec 32 := Scalar.addi v2073 c132_i32
  let v2076 : Index := Scalar.indexCast v2074
  ![0, 0, v2076.toNat]
def k0_mult267 (v2077 : BitVec 32) : BitVec 32 :=
  v2077

def k0_mult268 (i : grid0.Coords) : BitVec 32 :=
  let arg1 : BitVec 32 := BitVec.ofNat 32 (i 1).val
  let c2_i32_1235 : BitVec 32 := 2#32
  let v2071 : BitVec 32 := Scalar.muli arg1 c2_i32_1235
  let c0_i32_1236 : BitVec 32 := 0#32
  let v2072 : BitVec 32 := Scalar.addi v2071 c0_i32_1236
  let c256_i32_1237 : BitVec 32 := 256#32
  let v2073 : BitVec 32 := Scalar.muli v2072 c256_i32_1237
  let c132_i32 : BitVec 32 := 132#32
  let v2074 : BitVec 32 := Scalar.addi v2073 c132_i32
  let c8_i32_1241 : BitVec 32 := 8#32
  let v2079 : BitVec 32 := Scalar.muli v2074 c8_i32_1241
  v2079
def k0_off543 (i : grid0.Coords) : Fin 1 → Nat :=
  let c1_i32_1238 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2075 : BitVec 32 := Scalar.subi c1_i32_1238 v9
  ![v2075.toNat]
def k0_off544 (i : grid0.Coords) : Fin 3 → Nat :=
  let c1_i32_1238 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2075 : BitVec 32 := Scalar.subi c1_i32_1238 v9
  let arg1 : BitVec 32 := BitVec.ofNat 32 (i 1).val
  let c2_i32_1235 : BitVec 32 := 2#32
  let v2071 : BitVec 32 := Scalar.muli arg1 c2_i32_1235
  let c0_i32_1236 : BitVec 32 := 0#32
  let v2072 : BitVec 32 := Scalar.addi v2071 c0_i32_1236
  let c256_i32_1237 : BitVec 32 := 256#32
  let v2073 : BitVec 32 := Scalar.muli v2072 c256_i32_1237
  let c132_i32 : BitVec 32 := 132#32
  let v2074 : BitVec 32 := Scalar.addi v2073 c132_i32
  let c8_i32_1241 : BitVec 32 := 8#32
  let v2079 : BitVec 32 := Scalar.muli v2074 c8_i32_1241
  let v2080 : BitVec 32 := v2079
  let c0_i32_1242 : BitVec 32 := 0#32
  ![v2075.toNat, v2080.toNat, 0]
def k0_off545 (v2077 : BitVec 32) : Fin 2 → Nat :=
  let v2078 : BitVec 32 := v2077
  let c0_i32_1243 : BitVec 32 := 0#32
  ![v2078.toNat, 0]

def k0_chk134 (i : grid0.Coords) (v2077 : BitVec 32) : Prop :=
  (∀ (k0_h2 : k0_cond2 i = 1#1), 8 ∣ (k0_mult267 v2077).toNat) ∧
  (∀ (k0_h2 : k0_cond2 i = 1#1), ∀ a, (k0_off545 v2077) a + S8x128.size a ≤ S131072x128.size a)
theorem k0_mult267_dvd : ∀ (i : grid0.Coords) (v2077 : BitVec 32) (k0_hw134 : k0_chk134 i v2077), ∀ (k0_h2 : k0_cond2 i = 1#1), 8 ∣ (k0_mult267 v2077).toNat := fun i v2077 k0_hw134 k0_h2 => k0_hw134.1 k0_h2
theorem k0_off545_inb : ∀ (i : grid0.Coords) (v2077 : BitVec 32) (k0_hw134 : k0_chk134 i v2077), ∀ (k0_h2 : k0_cond2 i = 1#1), ∀ a, (k0_off545 v2077) a + S8x128.size a ≤ S131072x128.size a := fun i v2077 k0_hw134 k0_h2 => k0_hw134.2 k0_h2

def k0_off546 (i : grid0.Coords) : Fin 3 → Nat :=
  let c0_1248 : Index := 0#32
  let c0_1249 : Index := 0#32
  let arg1 : BitVec 32 := BitVec.ofNat 32 (i 1).val
  let c2_i32_1244 : BitVec 32 := 2#32
  let v2086 : BitVec 32 := Scalar.muli arg1 c2_i32_1244
  let c0_i32_1245 : BitVec 32 := 0#32
  let v2087 : BitVec 32 := Scalar.addi v2086 c0_i32_1245
  let c256_i32_1246 : BitVec 32 := 256#32
  let v2088 : BitVec 32 := Scalar.muli v2087 c256_i32_1246
  let c133_i32 : BitVec 32 := 133#32
  let v2089 : BitVec 32 := Scalar.addi v2088 c133_i32
  let v2091 : Index := Scalar.indexCast v2089
  ![0, 0, v2091.toNat]
def k0_mult269 (v2092 : BitVec 32) : BitVec 32 :=
  v2092

def k0_mult270 (i : grid0.Coords) : BitVec 32 :=
  let arg1 : BitVec 32 := BitVec.ofNat 32 (i 1).val
  let c2_i32_1244 : BitVec 32 := 2#32
  let v2086 : BitVec 32 := Scalar.muli arg1 c2_i32_1244
  let c0_i32_1245 : BitVec 32 := 0#32
  let v2087 : BitVec 32 := Scalar.addi v2086 c0_i32_1245
  let c256_i32_1246 : BitVec 32 := 256#32
  let v2088 : BitVec 32 := Scalar.muli v2087 c256_i32_1246
  let c133_i32 : BitVec 32 := 133#32
  let v2089 : BitVec 32 := Scalar.addi v2088 c133_i32
  let c8_i32_1250 : BitVec 32 := 8#32
  let v2094 : BitVec 32 := Scalar.muli v2089 c8_i32_1250
  v2094
def k0_off547 (i : grid0.Coords) : Fin 1 → Nat :=
  let c1_i32_1247 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2090 : BitVec 32 := Scalar.subi c1_i32_1247 v9
  ![v2090.toNat]
def k0_off548 (i : grid0.Coords) : Fin 3 → Nat :=
  let c1_i32_1247 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2090 : BitVec 32 := Scalar.subi c1_i32_1247 v9
  let arg1 : BitVec 32 := BitVec.ofNat 32 (i 1).val
  let c2_i32_1244 : BitVec 32 := 2#32
  let v2086 : BitVec 32 := Scalar.muli arg1 c2_i32_1244
  let c0_i32_1245 : BitVec 32 := 0#32
  let v2087 : BitVec 32 := Scalar.addi v2086 c0_i32_1245
  let c256_i32_1246 : BitVec 32 := 256#32
  let v2088 : BitVec 32 := Scalar.muli v2087 c256_i32_1246
  let c133_i32 : BitVec 32 := 133#32
  let v2089 : BitVec 32 := Scalar.addi v2088 c133_i32
  let c8_i32_1250 : BitVec 32 := 8#32
  let v2094 : BitVec 32 := Scalar.muli v2089 c8_i32_1250
  let v2095 : BitVec 32 := v2094
  let c0_i32_1251 : BitVec 32 := 0#32
  ![v2090.toNat, v2095.toNat, 0]
def k0_off549 (v2092 : BitVec 32) : Fin 2 → Nat :=
  let v2093 : BitVec 32 := v2092
  let c0_i32_1252 : BitVec 32 := 0#32
  ![v2093.toNat, 0]

def k0_chk135 (i : grid0.Coords) (v2092 : BitVec 32) : Prop :=
  (∀ (k0_h2 : k0_cond2 i = 1#1), 8 ∣ (k0_mult269 v2092).toNat) ∧
  (∀ (k0_h2 : k0_cond2 i = 1#1), ∀ a, (k0_off549 v2092) a + S8x128.size a ≤ S131072x128.size a)
theorem k0_mult269_dvd : ∀ (i : grid0.Coords) (v2092 : BitVec 32) (k0_hw135 : k0_chk135 i v2092), ∀ (k0_h2 : k0_cond2 i = 1#1), 8 ∣ (k0_mult269 v2092).toNat := fun i v2092 k0_hw135 k0_h2 => k0_hw135.1 k0_h2
theorem k0_off549_inb : ∀ (i : grid0.Coords) (v2092 : BitVec 32) (k0_hw135 : k0_chk135 i v2092), ∀ (k0_h2 : k0_cond2 i = 1#1), ∀ a, (k0_off549 v2092) a + S8x128.size a ≤ S131072x128.size a := fun i v2092 k0_hw135 k0_h2 => k0_hw135.2 k0_h2

def k0_off550 (i : grid0.Coords) : Fin 3 → Nat :=
  let c0_1257 : Index := 0#32
  let c0_1258 : Index := 0#32
  let arg1 : BitVec 32 := BitVec.ofNat 32 (i 1).val
  let c2_i32_1253 : BitVec 32 := 2#32
  let v2101 : BitVec 32 := Scalar.muli arg1 c2_i32_1253
  let c0_i32_1254 : BitVec 32 := 0#32
  let v2102 : BitVec 32 := Scalar.addi v2101 c0_i32_1254
  let c256_i32_1255 : BitVec 32 := 256#32
  let v2103 : BitVec 32 := Scalar.muli v2102 c256_i32_1255
  let c134_i32 : BitVec 32 := 134#32
  let v2104 : BitVec 32 := Scalar.addi v2103 c134_i32
  let v2106 : Index := Scalar.indexCast v2104
  ![0, 0, v2106.toNat]
def k0_mult271 (v2107 : BitVec 32) : BitVec 32 :=
  v2107

def k0_mult272 (i : grid0.Coords) : BitVec 32 :=
  let arg1 : BitVec 32 := BitVec.ofNat 32 (i 1).val
  let c2_i32_1253 : BitVec 32 := 2#32
  let v2101 : BitVec 32 := Scalar.muli arg1 c2_i32_1253
  let c0_i32_1254 : BitVec 32 := 0#32
  let v2102 : BitVec 32 := Scalar.addi v2101 c0_i32_1254
  let c256_i32_1255 : BitVec 32 := 256#32
  let v2103 : BitVec 32 := Scalar.muli v2102 c256_i32_1255
  let c134_i32 : BitVec 32 := 134#32
  let v2104 : BitVec 32 := Scalar.addi v2103 c134_i32
  let c8_i32_1259 : BitVec 32 := 8#32
  let v2109 : BitVec 32 := Scalar.muli v2104 c8_i32_1259
  v2109
def k0_off551 (i : grid0.Coords) : Fin 1 → Nat :=
  let c1_i32_1256 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2105 : BitVec 32 := Scalar.subi c1_i32_1256 v9
  ![v2105.toNat]
def k0_off552 (i : grid0.Coords) : Fin 3 → Nat :=
  let c1_i32_1256 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2105 : BitVec 32 := Scalar.subi c1_i32_1256 v9
  let arg1 : BitVec 32 := BitVec.ofNat 32 (i 1).val
  let c2_i32_1253 : BitVec 32 := 2#32
  let v2101 : BitVec 32 := Scalar.muli arg1 c2_i32_1253
  let c0_i32_1254 : BitVec 32 := 0#32
  let v2102 : BitVec 32 := Scalar.addi v2101 c0_i32_1254
  let c256_i32_1255 : BitVec 32 := 256#32
  let v2103 : BitVec 32 := Scalar.muli v2102 c256_i32_1255
  let c134_i32 : BitVec 32 := 134#32
  let v2104 : BitVec 32 := Scalar.addi v2103 c134_i32
  let c8_i32_1259 : BitVec 32 := 8#32
  let v2109 : BitVec 32 := Scalar.muli v2104 c8_i32_1259
  let v2110 : BitVec 32 := v2109
  let c0_i32_1260 : BitVec 32 := 0#32
  ![v2105.toNat, v2110.toNat, 0]
def k0_off553 (v2107 : BitVec 32) : Fin 2 → Nat :=
  let v2108 : BitVec 32 := v2107
  let c0_i32_1261 : BitVec 32 := 0#32
  ![v2108.toNat, 0]

def k0_chk136 (i : grid0.Coords) (v2107 : BitVec 32) : Prop :=
  (∀ (k0_h2 : k0_cond2 i = 1#1), 8 ∣ (k0_mult271 v2107).toNat) ∧
  (∀ (k0_h2 : k0_cond2 i = 1#1), ∀ a, (k0_off553 v2107) a + S8x128.size a ≤ S131072x128.size a)
theorem k0_mult271_dvd : ∀ (i : grid0.Coords) (v2107 : BitVec 32) (k0_hw136 : k0_chk136 i v2107), ∀ (k0_h2 : k0_cond2 i = 1#1), 8 ∣ (k0_mult271 v2107).toNat := fun i v2107 k0_hw136 k0_h2 => k0_hw136.1 k0_h2
theorem k0_off553_inb : ∀ (i : grid0.Coords) (v2107 : BitVec 32) (k0_hw136 : k0_chk136 i v2107), ∀ (k0_h2 : k0_cond2 i = 1#1), ∀ a, (k0_off553 v2107) a + S8x128.size a ≤ S131072x128.size a := fun i v2107 k0_hw136 k0_h2 => k0_hw136.2 k0_h2

def k0_off554 (i : grid0.Coords) : Fin 3 → Nat :=
  let c0_1266 : Index := 0#32
  let c0_1267 : Index := 0#32
  let arg1 : BitVec 32 := BitVec.ofNat 32 (i 1).val
  let c2_i32_1262 : BitVec 32 := 2#32
  let v2116 : BitVec 32 := Scalar.muli arg1 c2_i32_1262
  let c0_i32_1263 : BitVec 32 := 0#32
  let v2117 : BitVec 32 := Scalar.addi v2116 c0_i32_1263
  let c256_i32_1264 : BitVec 32 := 256#32
  let v2118 : BitVec 32 := Scalar.muli v2117 c256_i32_1264
  let c135_i32 : BitVec 32 := 135#32
  let v2119 : BitVec 32 := Scalar.addi v2118 c135_i32
  let v2121 : Index := Scalar.indexCast v2119
  ![0, 0, v2121.toNat]
def k0_mult273 (v2122 : BitVec 32) : BitVec 32 :=
  v2122

def k0_mult274 (i : grid0.Coords) : BitVec 32 :=
  let arg1 : BitVec 32 := BitVec.ofNat 32 (i 1).val
  let c2_i32_1262 : BitVec 32 := 2#32
  let v2116 : BitVec 32 := Scalar.muli arg1 c2_i32_1262
  let c0_i32_1263 : BitVec 32 := 0#32
  let v2117 : BitVec 32 := Scalar.addi v2116 c0_i32_1263
  let c256_i32_1264 : BitVec 32 := 256#32
  let v2118 : BitVec 32 := Scalar.muli v2117 c256_i32_1264
  let c135_i32 : BitVec 32 := 135#32
  let v2119 : BitVec 32 := Scalar.addi v2118 c135_i32
  let c8_i32_1268 : BitVec 32 := 8#32
  let v2124 : BitVec 32 := Scalar.muli v2119 c8_i32_1268
  v2124
def k0_off555 (i : grid0.Coords) : Fin 1 → Nat :=
  let c1_i32_1265 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2120 : BitVec 32 := Scalar.subi c1_i32_1265 v9
  ![v2120.toNat]
def k0_off556 (i : grid0.Coords) : Fin 3 → Nat :=
  let c1_i32_1265 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2120 : BitVec 32 := Scalar.subi c1_i32_1265 v9
  let arg1 : BitVec 32 := BitVec.ofNat 32 (i 1).val
  let c2_i32_1262 : BitVec 32 := 2#32
  let v2116 : BitVec 32 := Scalar.muli arg1 c2_i32_1262
  let c0_i32_1263 : BitVec 32 := 0#32
  let v2117 : BitVec 32 := Scalar.addi v2116 c0_i32_1263
  let c256_i32_1264 : BitVec 32 := 256#32
  let v2118 : BitVec 32 := Scalar.muli v2117 c256_i32_1264
  let c135_i32 : BitVec 32 := 135#32
  let v2119 : BitVec 32 := Scalar.addi v2118 c135_i32
  let c8_i32_1268 : BitVec 32 := 8#32
  let v2124 : BitVec 32 := Scalar.muli v2119 c8_i32_1268
  let v2125 : BitVec 32 := v2124
  let c0_i32_1269 : BitVec 32 := 0#32
  ![v2120.toNat, v2125.toNat, 0]
def k0_off557 (v2122 : BitVec 32) : Fin 2 → Nat :=
  let v2123 : BitVec 32 := v2122
  let c0_i32_1270 : BitVec 32 := 0#32
  ![v2123.toNat, 0]

def k0_chk137 (i : grid0.Coords) (v2122 : BitVec 32) : Prop :=
  (∀ (k0_h2 : k0_cond2 i = 1#1), 8 ∣ (k0_mult273 v2122).toNat) ∧
  (∀ (k0_h2 : k0_cond2 i = 1#1), ∀ a, (k0_off557 v2122) a + S8x128.size a ≤ S131072x128.size a)
theorem k0_mult273_dvd : ∀ (i : grid0.Coords) (v2122 : BitVec 32) (k0_hw137 : k0_chk137 i v2122), ∀ (k0_h2 : k0_cond2 i = 1#1), 8 ∣ (k0_mult273 v2122).toNat := fun i v2122 k0_hw137 k0_h2 => k0_hw137.1 k0_h2
theorem k0_off557_inb : ∀ (i : grid0.Coords) (v2122 : BitVec 32) (k0_hw137 : k0_chk137 i v2122), ∀ (k0_h2 : k0_cond2 i = 1#1), ∀ a, (k0_off557 v2122) a + S8x128.size a ≤ S131072x128.size a := fun i v2122 k0_hw137 k0_h2 => k0_hw137.2 k0_h2

def k0_off558 (i : grid0.Coords) : Fin 3 → Nat :=
  let c0_1275 : Index := 0#32
  let c0_1276 : Index := 0#32
  let arg1 : BitVec 32 := BitVec.ofNat 32 (i 1).val
  let c2_i32_1271 : BitVec 32 := 2#32
  let v2131 : BitVec 32 := Scalar.muli arg1 c2_i32_1271
  let c0_i32_1272 : BitVec 32 := 0#32
  let v2132 : BitVec 32 := Scalar.addi v2131 c0_i32_1272
  let c256_i32_1273 : BitVec 32 := 256#32
  let v2133 : BitVec 32 := Scalar.muli v2132 c256_i32_1273
  let c136_i32 : BitVec 32 := 136#32
  let v2134 : BitVec 32 := Scalar.addi v2133 c136_i32
  let v2136 : Index := Scalar.indexCast v2134
  ![0, 0, v2136.toNat]
def k0_mult275 (v2137 : BitVec 32) : BitVec 32 :=
  v2137

def k0_mult276 (i : grid0.Coords) : BitVec 32 :=
  let arg1 : BitVec 32 := BitVec.ofNat 32 (i 1).val
  let c2_i32_1271 : BitVec 32 := 2#32
  let v2131 : BitVec 32 := Scalar.muli arg1 c2_i32_1271
  let c0_i32_1272 : BitVec 32 := 0#32
  let v2132 : BitVec 32 := Scalar.addi v2131 c0_i32_1272
  let c256_i32_1273 : BitVec 32 := 256#32
  let v2133 : BitVec 32 := Scalar.muli v2132 c256_i32_1273
  let c136_i32 : BitVec 32 := 136#32
  let v2134 : BitVec 32 := Scalar.addi v2133 c136_i32
  let c8_i32_1277 : BitVec 32 := 8#32
  let v2139 : BitVec 32 := Scalar.muli v2134 c8_i32_1277
  v2139
def k0_off559 (i : grid0.Coords) : Fin 1 → Nat :=
  let c1_i32_1274 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2135 : BitVec 32 := Scalar.subi c1_i32_1274 v9
  ![v2135.toNat]
def k0_off560 (i : grid0.Coords) : Fin 3 → Nat :=
  let c1_i32_1274 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2135 : BitVec 32 := Scalar.subi c1_i32_1274 v9
  let arg1 : BitVec 32 := BitVec.ofNat 32 (i 1).val
  let c2_i32_1271 : BitVec 32 := 2#32
  let v2131 : BitVec 32 := Scalar.muli arg1 c2_i32_1271
  let c0_i32_1272 : BitVec 32 := 0#32
  let v2132 : BitVec 32 := Scalar.addi v2131 c0_i32_1272
  let c256_i32_1273 : BitVec 32 := 256#32
  let v2133 : BitVec 32 := Scalar.muli v2132 c256_i32_1273
  let c136_i32 : BitVec 32 := 136#32
  let v2134 : BitVec 32 := Scalar.addi v2133 c136_i32
  let c8_i32_1277 : BitVec 32 := 8#32
  let v2139 : BitVec 32 := Scalar.muli v2134 c8_i32_1277
  let v2140 : BitVec 32 := v2139
  let c0_i32_1278 : BitVec 32 := 0#32
  ![v2135.toNat, v2140.toNat, 0]
def k0_off561 (v2137 : BitVec 32) : Fin 2 → Nat :=
  let v2138 : BitVec 32 := v2137
  let c0_i32_1279 : BitVec 32 := 0#32
  ![v2138.toNat, 0]

def k0_chk138 (i : grid0.Coords) (v2137 : BitVec 32) : Prop :=
  (∀ (k0_h2 : k0_cond2 i = 1#1), 8 ∣ (k0_mult275 v2137).toNat) ∧
  (∀ (k0_h2 : k0_cond2 i = 1#1), ∀ a, (k0_off561 v2137) a + S8x128.size a ≤ S131072x128.size a)
theorem k0_mult275_dvd : ∀ (i : grid0.Coords) (v2137 : BitVec 32) (k0_hw138 : k0_chk138 i v2137), ∀ (k0_h2 : k0_cond2 i = 1#1), 8 ∣ (k0_mult275 v2137).toNat := fun i v2137 k0_hw138 k0_h2 => k0_hw138.1 k0_h2
theorem k0_off561_inb : ∀ (i : grid0.Coords) (v2137 : BitVec 32) (k0_hw138 : k0_chk138 i v2137), ∀ (k0_h2 : k0_cond2 i = 1#1), ∀ a, (k0_off561 v2137) a + S8x128.size a ≤ S131072x128.size a := fun i v2137 k0_hw138 k0_h2 => k0_hw138.2 k0_h2

def k0_off562 (i : grid0.Coords) : Fin 3 → Nat :=
  let c0_1284 : Index := 0#32
  let c0_1285 : Index := 0#32
  let arg1 : BitVec 32 := BitVec.ofNat 32 (i 1).val
  let c2_i32_1280 : BitVec 32 := 2#32
  let v2146 : BitVec 32 := Scalar.muli arg1 c2_i32_1280
  let c0_i32_1281 : BitVec 32 := 0#32
  let v2147 : BitVec 32 := Scalar.addi v2146 c0_i32_1281
  let c256_i32_1282 : BitVec 32 := 256#32
  let v2148 : BitVec 32 := Scalar.muli v2147 c256_i32_1282
  let c137_i32 : BitVec 32 := 137#32
  let v2149 : BitVec 32 := Scalar.addi v2148 c137_i32
  let v2151 : Index := Scalar.indexCast v2149
  ![0, 0, v2151.toNat]
def k0_mult277 (v2152 : BitVec 32) : BitVec 32 :=
  v2152

def k0_mult278 (i : grid0.Coords) : BitVec 32 :=
  let arg1 : BitVec 32 := BitVec.ofNat 32 (i 1).val
  let c2_i32_1280 : BitVec 32 := 2#32
  let v2146 : BitVec 32 := Scalar.muli arg1 c2_i32_1280
  let c0_i32_1281 : BitVec 32 := 0#32
  let v2147 : BitVec 32 := Scalar.addi v2146 c0_i32_1281
  let c256_i32_1282 : BitVec 32 := 256#32
  let v2148 : BitVec 32 := Scalar.muli v2147 c256_i32_1282
  let c137_i32 : BitVec 32 := 137#32
  let v2149 : BitVec 32 := Scalar.addi v2148 c137_i32
  let c8_i32_1286 : BitVec 32 := 8#32
  let v2154 : BitVec 32 := Scalar.muli v2149 c8_i32_1286
  v2154
def k0_off563 (i : grid0.Coords) : Fin 1 → Nat :=
  let c1_i32_1283 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2150 : BitVec 32 := Scalar.subi c1_i32_1283 v9
  ![v2150.toNat]
def k0_off564 (i : grid0.Coords) : Fin 3 → Nat :=
  let c1_i32_1283 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2150 : BitVec 32 := Scalar.subi c1_i32_1283 v9
  let arg1 : BitVec 32 := BitVec.ofNat 32 (i 1).val
  let c2_i32_1280 : BitVec 32 := 2#32
  let v2146 : BitVec 32 := Scalar.muli arg1 c2_i32_1280
  let c0_i32_1281 : BitVec 32 := 0#32
  let v2147 : BitVec 32 := Scalar.addi v2146 c0_i32_1281
  let c256_i32_1282 : BitVec 32 := 256#32
  let v2148 : BitVec 32 := Scalar.muli v2147 c256_i32_1282
  let c137_i32 : BitVec 32 := 137#32
  let v2149 : BitVec 32 := Scalar.addi v2148 c137_i32
  let c8_i32_1286 : BitVec 32 := 8#32
  let v2154 : BitVec 32 := Scalar.muli v2149 c8_i32_1286
  let v2155 : BitVec 32 := v2154
  let c0_i32_1287 : BitVec 32 := 0#32
  ![v2150.toNat, v2155.toNat, 0]
def k0_off565 (v2152 : BitVec 32) : Fin 2 → Nat :=
  let v2153 : BitVec 32 := v2152
  let c0_i32_1288 : BitVec 32 := 0#32
  ![v2153.toNat, 0]

def k0_chk139 (i : grid0.Coords) (v2152 : BitVec 32) : Prop :=
  (∀ (k0_h2 : k0_cond2 i = 1#1), 8 ∣ (k0_mult277 v2152).toNat) ∧
  (∀ (k0_h2 : k0_cond2 i = 1#1), ∀ a, (k0_off565 v2152) a + S8x128.size a ≤ S131072x128.size a)
theorem k0_mult277_dvd : ∀ (i : grid0.Coords) (v2152 : BitVec 32) (k0_hw139 : k0_chk139 i v2152), ∀ (k0_h2 : k0_cond2 i = 1#1), 8 ∣ (k0_mult277 v2152).toNat := fun i v2152 k0_hw139 k0_h2 => k0_hw139.1 k0_h2
theorem k0_off565_inb : ∀ (i : grid0.Coords) (v2152 : BitVec 32) (k0_hw139 : k0_chk139 i v2152), ∀ (k0_h2 : k0_cond2 i = 1#1), ∀ a, (k0_off565 v2152) a + S8x128.size a ≤ S131072x128.size a := fun i v2152 k0_hw139 k0_h2 => k0_hw139.2 k0_h2

def k0_off566 (i : grid0.Coords) : Fin 3 → Nat :=
  let c0_1293 : Index := 0#32
  let c0_1294 : Index := 0#32
  let arg1 : BitVec 32 := BitVec.ofNat 32 (i 1).val
  let c2_i32_1289 : BitVec 32 := 2#32
  let v2161 : BitVec 32 := Scalar.muli arg1 c2_i32_1289
  let c0_i32_1290 : BitVec 32 := 0#32
  let v2162 : BitVec 32 := Scalar.addi v2161 c0_i32_1290
  let c256_i32_1291 : BitVec 32 := 256#32
  let v2163 : BitVec 32 := Scalar.muli v2162 c256_i32_1291
  let c138_i32 : BitVec 32 := 138#32
  let v2164 : BitVec 32 := Scalar.addi v2163 c138_i32
  let v2166 : Index := Scalar.indexCast v2164
  ![0, 0, v2166.toNat]
def k0_mult279 (v2167 : BitVec 32) : BitVec 32 :=
  v2167

def k0_mult280 (i : grid0.Coords) : BitVec 32 :=
  let arg1 : BitVec 32 := BitVec.ofNat 32 (i 1).val
  let c2_i32_1289 : BitVec 32 := 2#32
  let v2161 : BitVec 32 := Scalar.muli arg1 c2_i32_1289
  let c0_i32_1290 : BitVec 32 := 0#32
  let v2162 : BitVec 32 := Scalar.addi v2161 c0_i32_1290
  let c256_i32_1291 : BitVec 32 := 256#32
  let v2163 : BitVec 32 := Scalar.muli v2162 c256_i32_1291
  let c138_i32 : BitVec 32 := 138#32
  let v2164 : BitVec 32 := Scalar.addi v2163 c138_i32
  let c8_i32_1295 : BitVec 32 := 8#32
  let v2169 : BitVec 32 := Scalar.muli v2164 c8_i32_1295
  v2169
def k0_off567 (i : grid0.Coords) : Fin 1 → Nat :=
  let c1_i32_1292 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2165 : BitVec 32 := Scalar.subi c1_i32_1292 v9
  ![v2165.toNat]
def k0_off568 (i : grid0.Coords) : Fin 3 → Nat :=
  let c1_i32_1292 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2165 : BitVec 32 := Scalar.subi c1_i32_1292 v9
  let arg1 : BitVec 32 := BitVec.ofNat 32 (i 1).val
  let c2_i32_1289 : BitVec 32 := 2#32
  let v2161 : BitVec 32 := Scalar.muli arg1 c2_i32_1289
  let c0_i32_1290 : BitVec 32 := 0#32
  let v2162 : BitVec 32 := Scalar.addi v2161 c0_i32_1290
  let c256_i32_1291 : BitVec 32 := 256#32
  let v2163 : BitVec 32 := Scalar.muli v2162 c256_i32_1291
  let c138_i32 : BitVec 32 := 138#32
  let v2164 : BitVec 32 := Scalar.addi v2163 c138_i32
  let c8_i32_1295 : BitVec 32 := 8#32
  let v2169 : BitVec 32 := Scalar.muli v2164 c8_i32_1295
  let v2170 : BitVec 32 := v2169
  let c0_i32_1296 : BitVec 32 := 0#32
  ![v2165.toNat, v2170.toNat, 0]
def k0_off569 (v2167 : BitVec 32) : Fin 2 → Nat :=
  let v2168 : BitVec 32 := v2167
  let c0_i32_1297 : BitVec 32 := 0#32
  ![v2168.toNat, 0]

def k0_chk140 (i : grid0.Coords) (v2167 : BitVec 32) : Prop :=
  (∀ (k0_h2 : k0_cond2 i = 1#1), 8 ∣ (k0_mult279 v2167).toNat) ∧
  (∀ (k0_h2 : k0_cond2 i = 1#1), ∀ a, (k0_off569 v2167) a + S8x128.size a ≤ S131072x128.size a)
theorem k0_mult279_dvd : ∀ (i : grid0.Coords) (v2167 : BitVec 32) (k0_hw140 : k0_chk140 i v2167), ∀ (k0_h2 : k0_cond2 i = 1#1), 8 ∣ (k0_mult279 v2167).toNat := fun i v2167 k0_hw140 k0_h2 => k0_hw140.1 k0_h2
theorem k0_off569_inb : ∀ (i : grid0.Coords) (v2167 : BitVec 32) (k0_hw140 : k0_chk140 i v2167), ∀ (k0_h2 : k0_cond2 i = 1#1), ∀ a, (k0_off569 v2167) a + S8x128.size a ≤ S131072x128.size a := fun i v2167 k0_hw140 k0_h2 => k0_hw140.2 k0_h2

def k0_off570 (i : grid0.Coords) : Fin 3 → Nat :=
  let c0_1302 : Index := 0#32
  let c0_1303 : Index := 0#32
  let arg1 : BitVec 32 := BitVec.ofNat 32 (i 1).val
  let c2_i32_1298 : BitVec 32 := 2#32
  let v2176 : BitVec 32 := Scalar.muli arg1 c2_i32_1298
  let c0_i32_1299 : BitVec 32 := 0#32
  let v2177 : BitVec 32 := Scalar.addi v2176 c0_i32_1299
  let c256_i32_1300 : BitVec 32 := 256#32
  let v2178 : BitVec 32 := Scalar.muli v2177 c256_i32_1300
  let c139_i32 : BitVec 32 := 139#32
  let v2179 : BitVec 32 := Scalar.addi v2178 c139_i32
  let v2181 : Index := Scalar.indexCast v2179
  ![0, 0, v2181.toNat]
def k0_mult281 (v2182 : BitVec 32) : BitVec 32 :=
  v2182

def k0_mult282 (i : grid0.Coords) : BitVec 32 :=
  let arg1 : BitVec 32 := BitVec.ofNat 32 (i 1).val
  let c2_i32_1298 : BitVec 32 := 2#32
  let v2176 : BitVec 32 := Scalar.muli arg1 c2_i32_1298
  let c0_i32_1299 : BitVec 32 := 0#32
  let v2177 : BitVec 32 := Scalar.addi v2176 c0_i32_1299
  let c256_i32_1300 : BitVec 32 := 256#32
  let v2178 : BitVec 32 := Scalar.muli v2177 c256_i32_1300
  let c139_i32 : BitVec 32 := 139#32
  let v2179 : BitVec 32 := Scalar.addi v2178 c139_i32
  let c8_i32_1304 : BitVec 32 := 8#32
  let v2184 : BitVec 32 := Scalar.muli v2179 c8_i32_1304
  v2184
def k0_off571 (i : grid0.Coords) : Fin 1 → Nat :=
  let c1_i32_1301 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2180 : BitVec 32 := Scalar.subi c1_i32_1301 v9
  ![v2180.toNat]
def k0_off572 (i : grid0.Coords) : Fin 3 → Nat :=
  let c1_i32_1301 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2180 : BitVec 32 := Scalar.subi c1_i32_1301 v9
  let arg1 : BitVec 32 := BitVec.ofNat 32 (i 1).val
  let c2_i32_1298 : BitVec 32 := 2#32
  let v2176 : BitVec 32 := Scalar.muli arg1 c2_i32_1298
  let c0_i32_1299 : BitVec 32 := 0#32
  let v2177 : BitVec 32 := Scalar.addi v2176 c0_i32_1299
  let c256_i32_1300 : BitVec 32 := 256#32
  let v2178 : BitVec 32 := Scalar.muli v2177 c256_i32_1300
  let c139_i32 : BitVec 32 := 139#32
  let v2179 : BitVec 32 := Scalar.addi v2178 c139_i32
  let c8_i32_1304 : BitVec 32 := 8#32
  let v2184 : BitVec 32 := Scalar.muli v2179 c8_i32_1304
  let v2185 : BitVec 32 := v2184
  let c0_i32_1305 : BitVec 32 := 0#32
  ![v2180.toNat, v2185.toNat, 0]
def k0_off573 (v2182 : BitVec 32) : Fin 2 → Nat :=
  let v2183 : BitVec 32 := v2182
  let c0_i32_1306 : BitVec 32 := 0#32
  ![v2183.toNat, 0]

def k0_chk141 (i : grid0.Coords) (v2182 : BitVec 32) : Prop :=
  (∀ (k0_h2 : k0_cond2 i = 1#1), 8 ∣ (k0_mult281 v2182).toNat) ∧
  (∀ (k0_h2 : k0_cond2 i = 1#1), ∀ a, (k0_off573 v2182) a + S8x128.size a ≤ S131072x128.size a)
theorem k0_mult281_dvd : ∀ (i : grid0.Coords) (v2182 : BitVec 32) (k0_hw141 : k0_chk141 i v2182), ∀ (k0_h2 : k0_cond2 i = 1#1), 8 ∣ (k0_mult281 v2182).toNat := fun i v2182 k0_hw141 k0_h2 => k0_hw141.1 k0_h2
theorem k0_off573_inb : ∀ (i : grid0.Coords) (v2182 : BitVec 32) (k0_hw141 : k0_chk141 i v2182), ∀ (k0_h2 : k0_cond2 i = 1#1), ∀ a, (k0_off573 v2182) a + S8x128.size a ≤ S131072x128.size a := fun i v2182 k0_hw141 k0_h2 => k0_hw141.2 k0_h2

def k0_off574 (i : grid0.Coords) : Fin 3 → Nat :=
  let c0_1311 : Index := 0#32
  let c0_1312 : Index := 0#32
  let arg1 : BitVec 32 := BitVec.ofNat 32 (i 1).val
  let c2_i32_1307 : BitVec 32 := 2#32
  let v2191 : BitVec 32 := Scalar.muli arg1 c2_i32_1307
  let c0_i32_1308 : BitVec 32 := 0#32
  let v2192 : BitVec 32 := Scalar.addi v2191 c0_i32_1308
  let c256_i32_1309 : BitVec 32 := 256#32
  let v2193 : BitVec 32 := Scalar.muli v2192 c256_i32_1309
  let c140_i32 : BitVec 32 := 140#32
  let v2194 : BitVec 32 := Scalar.addi v2193 c140_i32
  let v2196 : Index := Scalar.indexCast v2194
  ![0, 0, v2196.toNat]
def k0_mult283 (v2197 : BitVec 32) : BitVec 32 :=
  v2197

def k0_mult284 (i : grid0.Coords) : BitVec 32 :=
  let arg1 : BitVec 32 := BitVec.ofNat 32 (i 1).val
  let c2_i32_1307 : BitVec 32 := 2#32
  let v2191 : BitVec 32 := Scalar.muli arg1 c2_i32_1307
  let c0_i32_1308 : BitVec 32 := 0#32
  let v2192 : BitVec 32 := Scalar.addi v2191 c0_i32_1308
  let c256_i32_1309 : BitVec 32 := 256#32
  let v2193 : BitVec 32 := Scalar.muli v2192 c256_i32_1309
  let c140_i32 : BitVec 32 := 140#32
  let v2194 : BitVec 32 := Scalar.addi v2193 c140_i32
  let c8_i32_1313 : BitVec 32 := 8#32
  let v2199 : BitVec 32 := Scalar.muli v2194 c8_i32_1313
  v2199
def k0_off575 (i : grid0.Coords) : Fin 1 → Nat :=
  let c1_i32_1310 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2195 : BitVec 32 := Scalar.subi c1_i32_1310 v9
  ![v2195.toNat]
def k0_off576 (i : grid0.Coords) : Fin 3 → Nat :=
  let c1_i32_1310 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2195 : BitVec 32 := Scalar.subi c1_i32_1310 v9
  let arg1 : BitVec 32 := BitVec.ofNat 32 (i 1).val
  let c2_i32_1307 : BitVec 32 := 2#32
  let v2191 : BitVec 32 := Scalar.muli arg1 c2_i32_1307
  let c0_i32_1308 : BitVec 32 := 0#32
  let v2192 : BitVec 32 := Scalar.addi v2191 c0_i32_1308
  let c256_i32_1309 : BitVec 32 := 256#32
  let v2193 : BitVec 32 := Scalar.muli v2192 c256_i32_1309
  let c140_i32 : BitVec 32 := 140#32
  let v2194 : BitVec 32 := Scalar.addi v2193 c140_i32
  let c8_i32_1313 : BitVec 32 := 8#32
  let v2199 : BitVec 32 := Scalar.muli v2194 c8_i32_1313
  let v2200 : BitVec 32 := v2199
  let c0_i32_1314 : BitVec 32 := 0#32
  ![v2195.toNat, v2200.toNat, 0]
def k0_off577 (v2197 : BitVec 32) : Fin 2 → Nat :=
  let v2198 : BitVec 32 := v2197
  let c0_i32_1315 : BitVec 32 := 0#32
  ![v2198.toNat, 0]

def k0_chk142 (i : grid0.Coords) (v2197 : BitVec 32) : Prop :=
  (∀ (k0_h2 : k0_cond2 i = 1#1), 8 ∣ (k0_mult283 v2197).toNat) ∧
  (∀ (k0_h2 : k0_cond2 i = 1#1), ∀ a, (k0_off577 v2197) a + S8x128.size a ≤ S131072x128.size a)
theorem k0_mult283_dvd : ∀ (i : grid0.Coords) (v2197 : BitVec 32) (k0_hw142 : k0_chk142 i v2197), ∀ (k0_h2 : k0_cond2 i = 1#1), 8 ∣ (k0_mult283 v2197).toNat := fun i v2197 k0_hw142 k0_h2 => k0_hw142.1 k0_h2
theorem k0_off577_inb : ∀ (i : grid0.Coords) (v2197 : BitVec 32) (k0_hw142 : k0_chk142 i v2197), ∀ (k0_h2 : k0_cond2 i = 1#1), ∀ a, (k0_off577 v2197) a + S8x128.size a ≤ S131072x128.size a := fun i v2197 k0_hw142 k0_h2 => k0_hw142.2 k0_h2

def k0_off578 (i : grid0.Coords) : Fin 3 → Nat :=
  let c0_1320 : Index := 0#32
  let c0_1321 : Index := 0#32
  let arg1 : BitVec 32 := BitVec.ofNat 32 (i 1).val
  let c2_i32_1316 : BitVec 32 := 2#32
  let v2206 : BitVec 32 := Scalar.muli arg1 c2_i32_1316
  let c0_i32_1317 : BitVec 32 := 0#32
  let v2207 : BitVec 32 := Scalar.addi v2206 c0_i32_1317
  let c256_i32_1318 : BitVec 32 := 256#32
  let v2208 : BitVec 32 := Scalar.muli v2207 c256_i32_1318
  let c141_i32 : BitVec 32 := 141#32
  let v2209 : BitVec 32 := Scalar.addi v2208 c141_i32
  let v2211 : Index := Scalar.indexCast v2209
  ![0, 0, v2211.toNat]
def k0_mult285 (v2212 : BitVec 32) : BitVec 32 :=
  v2212

def k0_mult286 (i : grid0.Coords) : BitVec 32 :=
  let arg1 : BitVec 32 := BitVec.ofNat 32 (i 1).val
  let c2_i32_1316 : BitVec 32 := 2#32
  let v2206 : BitVec 32 := Scalar.muli arg1 c2_i32_1316
  let c0_i32_1317 : BitVec 32 := 0#32
  let v2207 : BitVec 32 := Scalar.addi v2206 c0_i32_1317
  let c256_i32_1318 : BitVec 32 := 256#32
  let v2208 : BitVec 32 := Scalar.muli v2207 c256_i32_1318
  let c141_i32 : BitVec 32 := 141#32
  let v2209 : BitVec 32 := Scalar.addi v2208 c141_i32
  let c8_i32_1322 : BitVec 32 := 8#32
  let v2214 : BitVec 32 := Scalar.muli v2209 c8_i32_1322
  v2214
def k0_off579 (i : grid0.Coords) : Fin 1 → Nat :=
  let c1_i32_1319 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2210 : BitVec 32 := Scalar.subi c1_i32_1319 v9
  ![v2210.toNat]
def k0_off580 (i : grid0.Coords) : Fin 3 → Nat :=
  let c1_i32_1319 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2210 : BitVec 32 := Scalar.subi c1_i32_1319 v9
  let arg1 : BitVec 32 := BitVec.ofNat 32 (i 1).val
  let c2_i32_1316 : BitVec 32 := 2#32
  let v2206 : BitVec 32 := Scalar.muli arg1 c2_i32_1316
  let c0_i32_1317 : BitVec 32 := 0#32
  let v2207 : BitVec 32 := Scalar.addi v2206 c0_i32_1317
  let c256_i32_1318 : BitVec 32 := 256#32
  let v2208 : BitVec 32 := Scalar.muli v2207 c256_i32_1318
  let c141_i32 : BitVec 32 := 141#32
  let v2209 : BitVec 32 := Scalar.addi v2208 c141_i32
  let c8_i32_1322 : BitVec 32 := 8#32
  let v2214 : BitVec 32 := Scalar.muli v2209 c8_i32_1322
  let v2215 : BitVec 32 := v2214
  let c0_i32_1323 : BitVec 32 := 0#32
  ![v2210.toNat, v2215.toNat, 0]
def k0_off581 (v2212 : BitVec 32) : Fin 2 → Nat :=
  let v2213 : BitVec 32 := v2212
  let c0_i32_1324 : BitVec 32 := 0#32
  ![v2213.toNat, 0]

def k0_chk143 (i : grid0.Coords) (v2212 : BitVec 32) : Prop :=
  (∀ (k0_h2 : k0_cond2 i = 1#1), 8 ∣ (k0_mult285 v2212).toNat) ∧
  (∀ (k0_h2 : k0_cond2 i = 1#1), ∀ a, (k0_off581 v2212) a + S8x128.size a ≤ S131072x128.size a)
theorem k0_mult285_dvd : ∀ (i : grid0.Coords) (v2212 : BitVec 32) (k0_hw143 : k0_chk143 i v2212), ∀ (k0_h2 : k0_cond2 i = 1#1), 8 ∣ (k0_mult285 v2212).toNat := fun i v2212 k0_hw143 k0_h2 => k0_hw143.1 k0_h2
theorem k0_off581_inb : ∀ (i : grid0.Coords) (v2212 : BitVec 32) (k0_hw143 : k0_chk143 i v2212), ∀ (k0_h2 : k0_cond2 i = 1#1), ∀ a, (k0_off581 v2212) a + S8x128.size a ≤ S131072x128.size a := fun i v2212 k0_hw143 k0_h2 => k0_hw143.2 k0_h2

def k0_off582 (i : grid0.Coords) : Fin 3 → Nat :=
  let c0_1329 : Index := 0#32
  let c0_1330 : Index := 0#32
  let arg1 : BitVec 32 := BitVec.ofNat 32 (i 1).val
  let c2_i32_1325 : BitVec 32 := 2#32
  let v2221 : BitVec 32 := Scalar.muli arg1 c2_i32_1325
  let c0_i32_1326 : BitVec 32 := 0#32
  let v2222 : BitVec 32 := Scalar.addi v2221 c0_i32_1326
  let c256_i32_1327 : BitVec 32 := 256#32
  let v2223 : BitVec 32 := Scalar.muli v2222 c256_i32_1327
  let c142_i32 : BitVec 32 := 142#32
  let v2224 : BitVec 32 := Scalar.addi v2223 c142_i32
  let v2226 : Index := Scalar.indexCast v2224
  ![0, 0, v2226.toNat]
def k0_mult287 (v2227 : BitVec 32) : BitVec 32 :=
  v2227

def k0_mult288 (i : grid0.Coords) : BitVec 32 :=
  let arg1 : BitVec 32 := BitVec.ofNat 32 (i 1).val
  let c2_i32_1325 : BitVec 32 := 2#32
  let v2221 : BitVec 32 := Scalar.muli arg1 c2_i32_1325
  let c0_i32_1326 : BitVec 32 := 0#32
  let v2222 : BitVec 32 := Scalar.addi v2221 c0_i32_1326
  let c256_i32_1327 : BitVec 32 := 256#32
  let v2223 : BitVec 32 := Scalar.muli v2222 c256_i32_1327
  let c142_i32 : BitVec 32 := 142#32
  let v2224 : BitVec 32 := Scalar.addi v2223 c142_i32
  let c8_i32_1331 : BitVec 32 := 8#32
  let v2229 : BitVec 32 := Scalar.muli v2224 c8_i32_1331
  v2229
def k0_off583 (i : grid0.Coords) : Fin 1 → Nat :=
  let c1_i32_1328 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2225 : BitVec 32 := Scalar.subi c1_i32_1328 v9
  ![v2225.toNat]
def k0_off584 (i : grid0.Coords) : Fin 3 → Nat :=
  let c1_i32_1328 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2225 : BitVec 32 := Scalar.subi c1_i32_1328 v9
  let arg1 : BitVec 32 := BitVec.ofNat 32 (i 1).val
  let c2_i32_1325 : BitVec 32 := 2#32
  let v2221 : BitVec 32 := Scalar.muli arg1 c2_i32_1325
  let c0_i32_1326 : BitVec 32 := 0#32
  let v2222 : BitVec 32 := Scalar.addi v2221 c0_i32_1326
  let c256_i32_1327 : BitVec 32 := 256#32
  let v2223 : BitVec 32 := Scalar.muli v2222 c256_i32_1327
  let c142_i32 : BitVec 32 := 142#32
  let v2224 : BitVec 32 := Scalar.addi v2223 c142_i32
  let c8_i32_1331 : BitVec 32 := 8#32
  let v2229 : BitVec 32 := Scalar.muli v2224 c8_i32_1331
  let v2230 : BitVec 32 := v2229
  let c0_i32_1332 : BitVec 32 := 0#32
  ![v2225.toNat, v2230.toNat, 0]
def k0_off585 (v2227 : BitVec 32) : Fin 2 → Nat :=
  let v2228 : BitVec 32 := v2227
  let c0_i32_1333 : BitVec 32 := 0#32
  ![v2228.toNat, 0]

def k0_chk144 (i : grid0.Coords) (v2227 : BitVec 32) : Prop :=
  (∀ (k0_h2 : k0_cond2 i = 1#1), 8 ∣ (k0_mult287 v2227).toNat) ∧
  (∀ (k0_h2 : k0_cond2 i = 1#1), ∀ a, (k0_off585 v2227) a + S8x128.size a ≤ S131072x128.size a)
theorem k0_mult287_dvd : ∀ (i : grid0.Coords) (v2227 : BitVec 32) (k0_hw144 : k0_chk144 i v2227), ∀ (k0_h2 : k0_cond2 i = 1#1), 8 ∣ (k0_mult287 v2227).toNat := fun i v2227 k0_hw144 k0_h2 => k0_hw144.1 k0_h2
theorem k0_off585_inb : ∀ (i : grid0.Coords) (v2227 : BitVec 32) (k0_hw144 : k0_chk144 i v2227), ∀ (k0_h2 : k0_cond2 i = 1#1), ∀ a, (k0_off585 v2227) a + S8x128.size a ≤ S131072x128.size a := fun i v2227 k0_hw144 k0_h2 => k0_hw144.2 k0_h2

def k0_off586 (i : grid0.Coords) : Fin 3 → Nat :=
  let c0_1338 : Index := 0#32
  let c0_1339 : Index := 0#32
  let arg1 : BitVec 32 := BitVec.ofNat 32 (i 1).val
  let c2_i32_1334 : BitVec 32 := 2#32
  let v2236 : BitVec 32 := Scalar.muli arg1 c2_i32_1334
  let c0_i32_1335 : BitVec 32 := 0#32
  let v2237 : BitVec 32 := Scalar.addi v2236 c0_i32_1335
  let c256_i32_1336 : BitVec 32 := 256#32
  let v2238 : BitVec 32 := Scalar.muli v2237 c256_i32_1336
  let c143_i32 : BitVec 32 := 143#32
  let v2239 : BitVec 32 := Scalar.addi v2238 c143_i32
  let v2241 : Index := Scalar.indexCast v2239
  ![0, 0, v2241.toNat]
def k0_mult289 (v2242 : BitVec 32) : BitVec 32 :=
  v2242

def k0_mult290 (i : grid0.Coords) : BitVec 32 :=
  let arg1 : BitVec 32 := BitVec.ofNat 32 (i 1).val
  let c2_i32_1334 : BitVec 32 := 2#32
  let v2236 : BitVec 32 := Scalar.muli arg1 c2_i32_1334
  let c0_i32_1335 : BitVec 32 := 0#32
  let v2237 : BitVec 32 := Scalar.addi v2236 c0_i32_1335
  let c256_i32_1336 : BitVec 32 := 256#32
  let v2238 : BitVec 32 := Scalar.muli v2237 c256_i32_1336
  let c143_i32 : BitVec 32 := 143#32
  let v2239 : BitVec 32 := Scalar.addi v2238 c143_i32
  let c8_i32_1340 : BitVec 32 := 8#32
  let v2244 : BitVec 32 := Scalar.muli v2239 c8_i32_1340
  v2244
def k0_off587 (i : grid0.Coords) : Fin 1 → Nat :=
  let c1_i32_1337 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2240 : BitVec 32 := Scalar.subi c1_i32_1337 v9
  ![v2240.toNat]
def k0_off588 (i : grid0.Coords) : Fin 3 → Nat :=
  let c1_i32_1337 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2240 : BitVec 32 := Scalar.subi c1_i32_1337 v9
  let arg1 : BitVec 32 := BitVec.ofNat 32 (i 1).val
  let c2_i32_1334 : BitVec 32 := 2#32
  let v2236 : BitVec 32 := Scalar.muli arg1 c2_i32_1334
  let c0_i32_1335 : BitVec 32 := 0#32
  let v2237 : BitVec 32 := Scalar.addi v2236 c0_i32_1335
  let c256_i32_1336 : BitVec 32 := 256#32
  let v2238 : BitVec 32 := Scalar.muli v2237 c256_i32_1336
  let c143_i32 : BitVec 32 := 143#32
  let v2239 : BitVec 32 := Scalar.addi v2238 c143_i32
  let c8_i32_1340 : BitVec 32 := 8#32
  let v2244 : BitVec 32 := Scalar.muli v2239 c8_i32_1340
  let v2245 : BitVec 32 := v2244
  let c0_i32_1341 : BitVec 32 := 0#32
  ![v2240.toNat, v2245.toNat, 0]
def k0_off589 (v2242 : BitVec 32) : Fin 2 → Nat :=
  let v2243 : BitVec 32 := v2242
  let c0_i32_1342 : BitVec 32 := 0#32
  ![v2243.toNat, 0]

def k0_chk145 (i : grid0.Coords) (v2242 : BitVec 32) : Prop :=
  (∀ (k0_h2 : k0_cond2 i = 1#1), 8 ∣ (k0_mult289 v2242).toNat) ∧
  (∀ (k0_h2 : k0_cond2 i = 1#1), ∀ a, (k0_off589 v2242) a + S8x128.size a ≤ S131072x128.size a)
theorem k0_mult289_dvd : ∀ (i : grid0.Coords) (v2242 : BitVec 32) (k0_hw145 : k0_chk145 i v2242), ∀ (k0_h2 : k0_cond2 i = 1#1), 8 ∣ (k0_mult289 v2242).toNat := fun i v2242 k0_hw145 k0_h2 => k0_hw145.1 k0_h2
theorem k0_off589_inb : ∀ (i : grid0.Coords) (v2242 : BitVec 32) (k0_hw145 : k0_chk145 i v2242), ∀ (k0_h2 : k0_cond2 i = 1#1), ∀ a, (k0_off589 v2242) a + S8x128.size a ≤ S131072x128.size a := fun i v2242 k0_hw145 k0_h2 => k0_hw145.2 k0_h2

def k0_off590 (i : grid0.Coords) : Fin 3 → Nat :=
  let c0_1347 : Index := 0#32
  let c0_1348 : Index := 0#32
  let arg1 : BitVec 32 := BitVec.ofNat 32 (i 1).val
  let c2_i32_1343 : BitVec 32 := 2#32
  let v2251 : BitVec 32 := Scalar.muli arg1 c2_i32_1343
  let c0_i32_1344 : BitVec 32 := 0#32
  let v2252 : BitVec 32 := Scalar.addi v2251 c0_i32_1344
  let c256_i32_1345 : BitVec 32 := 256#32
  let v2253 : BitVec 32 := Scalar.muli v2252 c256_i32_1345
  let c144_i32 : BitVec 32 := 144#32
  let v2254 : BitVec 32 := Scalar.addi v2253 c144_i32
  let v2256 : Index := Scalar.indexCast v2254
  ![0, 0, v2256.toNat]
def k0_mult291 (v2257 : BitVec 32) : BitVec 32 :=
  v2257

def k0_mult292 (i : grid0.Coords) : BitVec 32 :=
  let arg1 : BitVec 32 := BitVec.ofNat 32 (i 1).val
  let c2_i32_1343 : BitVec 32 := 2#32
  let v2251 : BitVec 32 := Scalar.muli arg1 c2_i32_1343
  let c0_i32_1344 : BitVec 32 := 0#32
  let v2252 : BitVec 32 := Scalar.addi v2251 c0_i32_1344
  let c256_i32_1345 : BitVec 32 := 256#32
  let v2253 : BitVec 32 := Scalar.muli v2252 c256_i32_1345
  let c144_i32 : BitVec 32 := 144#32
  let v2254 : BitVec 32 := Scalar.addi v2253 c144_i32
  let c8_i32_1349 : BitVec 32 := 8#32
  let v2259 : BitVec 32 := Scalar.muli v2254 c8_i32_1349
  v2259
def k0_off591 (i : grid0.Coords) : Fin 1 → Nat :=
  let c1_i32_1346 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2255 : BitVec 32 := Scalar.subi c1_i32_1346 v9
  ![v2255.toNat]
def k0_off592 (i : grid0.Coords) : Fin 3 → Nat :=
  let c1_i32_1346 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2255 : BitVec 32 := Scalar.subi c1_i32_1346 v9
  let arg1 : BitVec 32 := BitVec.ofNat 32 (i 1).val
  let c2_i32_1343 : BitVec 32 := 2#32
  let v2251 : BitVec 32 := Scalar.muli arg1 c2_i32_1343
  let c0_i32_1344 : BitVec 32 := 0#32
  let v2252 : BitVec 32 := Scalar.addi v2251 c0_i32_1344
  let c256_i32_1345 : BitVec 32 := 256#32
  let v2253 : BitVec 32 := Scalar.muli v2252 c256_i32_1345
  let c144_i32 : BitVec 32 := 144#32
  let v2254 : BitVec 32 := Scalar.addi v2253 c144_i32
  let c8_i32_1349 : BitVec 32 := 8#32
  let v2259 : BitVec 32 := Scalar.muli v2254 c8_i32_1349
  let v2260 : BitVec 32 := v2259
  let c0_i32_1350 : BitVec 32 := 0#32
  ![v2255.toNat, v2260.toNat, 0]
def k0_off593 (v2257 : BitVec 32) : Fin 2 → Nat :=
  let v2258 : BitVec 32 := v2257
  let c0_i32_1351 : BitVec 32 := 0#32
  ![v2258.toNat, 0]

def k0_chk146 (i : grid0.Coords) (v2257 : BitVec 32) : Prop :=
  (∀ (k0_h2 : k0_cond2 i = 1#1), 8 ∣ (k0_mult291 v2257).toNat) ∧
  (∀ (k0_h2 : k0_cond2 i = 1#1), ∀ a, (k0_off593 v2257) a + S8x128.size a ≤ S131072x128.size a)
theorem k0_mult291_dvd : ∀ (i : grid0.Coords) (v2257 : BitVec 32) (k0_hw146 : k0_chk146 i v2257), ∀ (k0_h2 : k0_cond2 i = 1#1), 8 ∣ (k0_mult291 v2257).toNat := fun i v2257 k0_hw146 k0_h2 => k0_hw146.1 k0_h2
theorem k0_off593_inb : ∀ (i : grid0.Coords) (v2257 : BitVec 32) (k0_hw146 : k0_chk146 i v2257), ∀ (k0_h2 : k0_cond2 i = 1#1), ∀ a, (k0_off593 v2257) a + S8x128.size a ≤ S131072x128.size a := fun i v2257 k0_hw146 k0_h2 => k0_hw146.2 k0_h2

def k0_off594 (i : grid0.Coords) : Fin 3 → Nat :=
  let c0_1356 : Index := 0#32
  let c0_1357 : Index := 0#32
  let arg1 : BitVec 32 := BitVec.ofNat 32 (i 1).val
  let c2_i32_1352 : BitVec 32 := 2#32
  let v2266 : BitVec 32 := Scalar.muli arg1 c2_i32_1352
  let c0_i32_1353 : BitVec 32 := 0#32
  let v2267 : BitVec 32 := Scalar.addi v2266 c0_i32_1353
  let c256_i32_1354 : BitVec 32 := 256#32
  let v2268 : BitVec 32 := Scalar.muli v2267 c256_i32_1354
  let c145_i32 : BitVec 32 := 145#32
  let v2269 : BitVec 32 := Scalar.addi v2268 c145_i32
  let v2271 : Index := Scalar.indexCast v2269
  ![0, 0, v2271.toNat]
def k0_mult293 (v2272 : BitVec 32) : BitVec 32 :=
  v2272

def k0_mult294 (i : grid0.Coords) : BitVec 32 :=
  let arg1 : BitVec 32 := BitVec.ofNat 32 (i 1).val
  let c2_i32_1352 : BitVec 32 := 2#32
  let v2266 : BitVec 32 := Scalar.muli arg1 c2_i32_1352
  let c0_i32_1353 : BitVec 32 := 0#32
  let v2267 : BitVec 32 := Scalar.addi v2266 c0_i32_1353
  let c256_i32_1354 : BitVec 32 := 256#32
  let v2268 : BitVec 32 := Scalar.muli v2267 c256_i32_1354
  let c145_i32 : BitVec 32 := 145#32
  let v2269 : BitVec 32 := Scalar.addi v2268 c145_i32
  let c8_i32_1358 : BitVec 32 := 8#32
  let v2274 : BitVec 32 := Scalar.muli v2269 c8_i32_1358
  v2274
def k0_off595 (i : grid0.Coords) : Fin 1 → Nat :=
  let c1_i32_1355 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2270 : BitVec 32 := Scalar.subi c1_i32_1355 v9
  ![v2270.toNat]
def k0_off596 (i : grid0.Coords) : Fin 3 → Nat :=
  let c1_i32_1355 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2270 : BitVec 32 := Scalar.subi c1_i32_1355 v9
  let arg1 : BitVec 32 := BitVec.ofNat 32 (i 1).val
  let c2_i32_1352 : BitVec 32 := 2#32
  let v2266 : BitVec 32 := Scalar.muli arg1 c2_i32_1352
  let c0_i32_1353 : BitVec 32 := 0#32
  let v2267 : BitVec 32 := Scalar.addi v2266 c0_i32_1353
  let c256_i32_1354 : BitVec 32 := 256#32
  let v2268 : BitVec 32 := Scalar.muli v2267 c256_i32_1354
  let c145_i32 : BitVec 32 := 145#32
  let v2269 : BitVec 32 := Scalar.addi v2268 c145_i32
  let c8_i32_1358 : BitVec 32 := 8#32
  let v2274 : BitVec 32 := Scalar.muli v2269 c8_i32_1358
  let v2275 : BitVec 32 := v2274
  let c0_i32_1359 : BitVec 32 := 0#32
  ![v2270.toNat, v2275.toNat, 0]
def k0_off597 (v2272 : BitVec 32) : Fin 2 → Nat :=
  let v2273 : BitVec 32 := v2272
  let c0_i32_1360 : BitVec 32 := 0#32
  ![v2273.toNat, 0]

def k0_chk147 (i : grid0.Coords) (v2272 : BitVec 32) : Prop :=
  (∀ (k0_h2 : k0_cond2 i = 1#1), 8 ∣ (k0_mult293 v2272).toNat) ∧
  (∀ (k0_h2 : k0_cond2 i = 1#1), ∀ a, (k0_off597 v2272) a + S8x128.size a ≤ S131072x128.size a)
theorem k0_mult293_dvd : ∀ (i : grid0.Coords) (v2272 : BitVec 32) (k0_hw147 : k0_chk147 i v2272), ∀ (k0_h2 : k0_cond2 i = 1#1), 8 ∣ (k0_mult293 v2272).toNat := fun i v2272 k0_hw147 k0_h2 => k0_hw147.1 k0_h2
theorem k0_off597_inb : ∀ (i : grid0.Coords) (v2272 : BitVec 32) (k0_hw147 : k0_chk147 i v2272), ∀ (k0_h2 : k0_cond2 i = 1#1), ∀ a, (k0_off597 v2272) a + S8x128.size a ≤ S131072x128.size a := fun i v2272 k0_hw147 k0_h2 => k0_hw147.2 k0_h2

def k0_off598 (i : grid0.Coords) : Fin 3 → Nat :=
  let c0_1365 : Index := 0#32
  let c0_1366 : Index := 0#32
  let arg1 : BitVec 32 := BitVec.ofNat 32 (i 1).val
  let c2_i32_1361 : BitVec 32 := 2#32
  let v2281 : BitVec 32 := Scalar.muli arg1 c2_i32_1361
  let c0_i32_1362 : BitVec 32 := 0#32
  let v2282 : BitVec 32 := Scalar.addi v2281 c0_i32_1362
  let c256_i32_1363 : BitVec 32 := 256#32
  let v2283 : BitVec 32 := Scalar.muli v2282 c256_i32_1363
  let c146_i32 : BitVec 32 := 146#32
  let v2284 : BitVec 32 := Scalar.addi v2283 c146_i32
  let v2286 : Index := Scalar.indexCast v2284
  ![0, 0, v2286.toNat]
def k0_mult295 (v2287 : BitVec 32) : BitVec 32 :=
  v2287

def k0_mult296 (i : grid0.Coords) : BitVec 32 :=
  let arg1 : BitVec 32 := BitVec.ofNat 32 (i 1).val
  let c2_i32_1361 : BitVec 32 := 2#32
  let v2281 : BitVec 32 := Scalar.muli arg1 c2_i32_1361
  let c0_i32_1362 : BitVec 32 := 0#32
  let v2282 : BitVec 32 := Scalar.addi v2281 c0_i32_1362
  let c256_i32_1363 : BitVec 32 := 256#32
  let v2283 : BitVec 32 := Scalar.muli v2282 c256_i32_1363
  let c146_i32 : BitVec 32 := 146#32
  let v2284 : BitVec 32 := Scalar.addi v2283 c146_i32
  let c8_i32_1367 : BitVec 32 := 8#32
  let v2289 : BitVec 32 := Scalar.muli v2284 c8_i32_1367
  v2289
def k0_off599 (i : grid0.Coords) : Fin 1 → Nat :=
  let c1_i32_1364 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2285 : BitVec 32 := Scalar.subi c1_i32_1364 v9
  ![v2285.toNat]
def k0_off600 (i : grid0.Coords) : Fin 3 → Nat :=
  let c1_i32_1364 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2285 : BitVec 32 := Scalar.subi c1_i32_1364 v9
  let arg1 : BitVec 32 := BitVec.ofNat 32 (i 1).val
  let c2_i32_1361 : BitVec 32 := 2#32
  let v2281 : BitVec 32 := Scalar.muli arg1 c2_i32_1361
  let c0_i32_1362 : BitVec 32 := 0#32
  let v2282 : BitVec 32 := Scalar.addi v2281 c0_i32_1362
  let c256_i32_1363 : BitVec 32 := 256#32
  let v2283 : BitVec 32 := Scalar.muli v2282 c256_i32_1363
  let c146_i32 : BitVec 32 := 146#32
  let v2284 : BitVec 32 := Scalar.addi v2283 c146_i32
  let c8_i32_1367 : BitVec 32 := 8#32
  let v2289 : BitVec 32 := Scalar.muli v2284 c8_i32_1367
  let v2290 : BitVec 32 := v2289
  let c0_i32_1368 : BitVec 32 := 0#32
  ![v2285.toNat, v2290.toNat, 0]
def k0_off601 (v2287 : BitVec 32) : Fin 2 → Nat :=
  let v2288 : BitVec 32 := v2287
  let c0_i32_1369 : BitVec 32 := 0#32
  ![v2288.toNat, 0]

def k0_chk148 (i : grid0.Coords) (v2287 : BitVec 32) : Prop :=
  (∀ (k0_h2 : k0_cond2 i = 1#1), 8 ∣ (k0_mult295 v2287).toNat) ∧
  (∀ (k0_h2 : k0_cond2 i = 1#1), ∀ a, (k0_off601 v2287) a + S8x128.size a ≤ S131072x128.size a)
theorem k0_mult295_dvd : ∀ (i : grid0.Coords) (v2287 : BitVec 32) (k0_hw148 : k0_chk148 i v2287), ∀ (k0_h2 : k0_cond2 i = 1#1), 8 ∣ (k0_mult295 v2287).toNat := fun i v2287 k0_hw148 k0_h2 => k0_hw148.1 k0_h2
theorem k0_off601_inb : ∀ (i : grid0.Coords) (v2287 : BitVec 32) (k0_hw148 : k0_chk148 i v2287), ∀ (k0_h2 : k0_cond2 i = 1#1), ∀ a, (k0_off601 v2287) a + S8x128.size a ≤ S131072x128.size a := fun i v2287 k0_hw148 k0_h2 => k0_hw148.2 k0_h2

def k0_off602 (i : grid0.Coords) : Fin 3 → Nat :=
  let c0_1374 : Index := 0#32
  let c0_1375 : Index := 0#32
  let arg1 : BitVec 32 := BitVec.ofNat 32 (i 1).val
  let c2_i32_1370 : BitVec 32 := 2#32
  let v2296 : BitVec 32 := Scalar.muli arg1 c2_i32_1370
  let c0_i32_1371 : BitVec 32 := 0#32
  let v2297 : BitVec 32 := Scalar.addi v2296 c0_i32_1371
  let c256_i32_1372 : BitVec 32 := 256#32
  let v2298 : BitVec 32 := Scalar.muli v2297 c256_i32_1372
  let c147_i32 : BitVec 32 := 147#32
  let v2299 : BitVec 32 := Scalar.addi v2298 c147_i32
  let v2301 : Index := Scalar.indexCast v2299
  ![0, 0, v2301.toNat]
def k0_mult297 (v2302 : BitVec 32) : BitVec 32 :=
  v2302

def k0_mult298 (i : grid0.Coords) : BitVec 32 :=
  let arg1 : BitVec 32 := BitVec.ofNat 32 (i 1).val
  let c2_i32_1370 : BitVec 32 := 2#32
  let v2296 : BitVec 32 := Scalar.muli arg1 c2_i32_1370
  let c0_i32_1371 : BitVec 32 := 0#32
  let v2297 : BitVec 32 := Scalar.addi v2296 c0_i32_1371
  let c256_i32_1372 : BitVec 32 := 256#32
  let v2298 : BitVec 32 := Scalar.muli v2297 c256_i32_1372
  let c147_i32 : BitVec 32 := 147#32
  let v2299 : BitVec 32 := Scalar.addi v2298 c147_i32
  let c8_i32_1376 : BitVec 32 := 8#32
  let v2304 : BitVec 32 := Scalar.muli v2299 c8_i32_1376
  v2304
def k0_off603 (i : grid0.Coords) : Fin 1 → Nat :=
  let c1_i32_1373 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2300 : BitVec 32 := Scalar.subi c1_i32_1373 v9
  ![v2300.toNat]
def k0_off604 (i : grid0.Coords) : Fin 3 → Nat :=
  let c1_i32_1373 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2300 : BitVec 32 := Scalar.subi c1_i32_1373 v9
  let arg1 : BitVec 32 := BitVec.ofNat 32 (i 1).val
  let c2_i32_1370 : BitVec 32 := 2#32
  let v2296 : BitVec 32 := Scalar.muli arg1 c2_i32_1370
  let c0_i32_1371 : BitVec 32 := 0#32
  let v2297 : BitVec 32 := Scalar.addi v2296 c0_i32_1371
  let c256_i32_1372 : BitVec 32 := 256#32
  let v2298 : BitVec 32 := Scalar.muli v2297 c256_i32_1372
  let c147_i32 : BitVec 32 := 147#32
  let v2299 : BitVec 32 := Scalar.addi v2298 c147_i32
  let c8_i32_1376 : BitVec 32 := 8#32
  let v2304 : BitVec 32 := Scalar.muli v2299 c8_i32_1376
  let v2305 : BitVec 32 := v2304
  let c0_i32_1377 : BitVec 32 := 0#32
  ![v2300.toNat, v2305.toNat, 0]
def k0_off605 (v2302 : BitVec 32) : Fin 2 → Nat :=
  let v2303 : BitVec 32 := v2302
  let c0_i32_1378 : BitVec 32 := 0#32
  ![v2303.toNat, 0]

def k0_chk149 (i : grid0.Coords) (v2302 : BitVec 32) : Prop :=
  (∀ (k0_h2 : k0_cond2 i = 1#1), 8 ∣ (k0_mult297 v2302).toNat) ∧
  (∀ (k0_h2 : k0_cond2 i = 1#1), ∀ a, (k0_off605 v2302) a + S8x128.size a ≤ S131072x128.size a)
theorem k0_mult297_dvd : ∀ (i : grid0.Coords) (v2302 : BitVec 32) (k0_hw149 : k0_chk149 i v2302), ∀ (k0_h2 : k0_cond2 i = 1#1), 8 ∣ (k0_mult297 v2302).toNat := fun i v2302 k0_hw149 k0_h2 => k0_hw149.1 k0_h2
theorem k0_off605_inb : ∀ (i : grid0.Coords) (v2302 : BitVec 32) (k0_hw149 : k0_chk149 i v2302), ∀ (k0_h2 : k0_cond2 i = 1#1), ∀ a, (k0_off605 v2302) a + S8x128.size a ≤ S131072x128.size a := fun i v2302 k0_hw149 k0_h2 => k0_hw149.2 k0_h2

def k0_off606 (i : grid0.Coords) : Fin 3 → Nat :=
  let c0_1383 : Index := 0#32
  let c0_1384 : Index := 0#32
  let arg1 : BitVec 32 := BitVec.ofNat 32 (i 1).val
  let c2_i32_1379 : BitVec 32 := 2#32
  let v2311 : BitVec 32 := Scalar.muli arg1 c2_i32_1379
  let c0_i32_1380 : BitVec 32 := 0#32
  let v2312 : BitVec 32 := Scalar.addi v2311 c0_i32_1380
  let c256_i32_1381 : BitVec 32 := 256#32
  let v2313 : BitVec 32 := Scalar.muli v2312 c256_i32_1381
  let c148_i32 : BitVec 32 := 148#32
  let v2314 : BitVec 32 := Scalar.addi v2313 c148_i32
  let v2316 : Index := Scalar.indexCast v2314
  ![0, 0, v2316.toNat]
def k0_mult299 (v2317 : BitVec 32) : BitVec 32 :=
  v2317

def k0_mult300 (i : grid0.Coords) : BitVec 32 :=
  let arg1 : BitVec 32 := BitVec.ofNat 32 (i 1).val
  let c2_i32_1379 : BitVec 32 := 2#32
  let v2311 : BitVec 32 := Scalar.muli arg1 c2_i32_1379
  let c0_i32_1380 : BitVec 32 := 0#32
  let v2312 : BitVec 32 := Scalar.addi v2311 c0_i32_1380
  let c256_i32_1381 : BitVec 32 := 256#32
  let v2313 : BitVec 32 := Scalar.muli v2312 c256_i32_1381
  let c148_i32 : BitVec 32 := 148#32
  let v2314 : BitVec 32 := Scalar.addi v2313 c148_i32
  let c8_i32_1385 : BitVec 32 := 8#32
  let v2319 : BitVec 32 := Scalar.muli v2314 c8_i32_1385
  v2319
def k0_off607 (i : grid0.Coords) : Fin 1 → Nat :=
  let c1_i32_1382 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2315 : BitVec 32 := Scalar.subi c1_i32_1382 v9
  ![v2315.toNat]
def k0_off608 (i : grid0.Coords) : Fin 3 → Nat :=
  let c1_i32_1382 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2315 : BitVec 32 := Scalar.subi c1_i32_1382 v9
  let arg1 : BitVec 32 := BitVec.ofNat 32 (i 1).val
  let c2_i32_1379 : BitVec 32 := 2#32
  let v2311 : BitVec 32 := Scalar.muli arg1 c2_i32_1379
  let c0_i32_1380 : BitVec 32 := 0#32
  let v2312 : BitVec 32 := Scalar.addi v2311 c0_i32_1380
  let c256_i32_1381 : BitVec 32 := 256#32
  let v2313 : BitVec 32 := Scalar.muli v2312 c256_i32_1381
  let c148_i32 : BitVec 32 := 148#32
  let v2314 : BitVec 32 := Scalar.addi v2313 c148_i32
  let c8_i32_1385 : BitVec 32 := 8#32
  let v2319 : BitVec 32 := Scalar.muli v2314 c8_i32_1385
  let v2320 : BitVec 32 := v2319
  let c0_i32_1386 : BitVec 32 := 0#32
  ![v2315.toNat, v2320.toNat, 0]
def k0_off609 (v2317 : BitVec 32) : Fin 2 → Nat :=
  let v2318 : BitVec 32 := v2317
  let c0_i32_1387 : BitVec 32 := 0#32
  ![v2318.toNat, 0]

def k0_chk150 (i : grid0.Coords) (v2317 : BitVec 32) : Prop :=
  (∀ (k0_h2 : k0_cond2 i = 1#1), 8 ∣ (k0_mult299 v2317).toNat) ∧
  (∀ (k0_h2 : k0_cond2 i = 1#1), ∀ a, (k0_off609 v2317) a + S8x128.size a ≤ S131072x128.size a)
theorem k0_mult299_dvd : ∀ (i : grid0.Coords) (v2317 : BitVec 32) (k0_hw150 : k0_chk150 i v2317), ∀ (k0_h2 : k0_cond2 i = 1#1), 8 ∣ (k0_mult299 v2317).toNat := fun i v2317 k0_hw150 k0_h2 => k0_hw150.1 k0_h2
theorem k0_off609_inb : ∀ (i : grid0.Coords) (v2317 : BitVec 32) (k0_hw150 : k0_chk150 i v2317), ∀ (k0_h2 : k0_cond2 i = 1#1), ∀ a, (k0_off609 v2317) a + S8x128.size a ≤ S131072x128.size a := fun i v2317 k0_hw150 k0_h2 => k0_hw150.2 k0_h2

def k0_off610 (i : grid0.Coords) : Fin 3 → Nat :=
  let c0_1392 : Index := 0#32
  let c0_1393 : Index := 0#32
  let arg1 : BitVec 32 := BitVec.ofNat 32 (i 1).val
  let c2_i32_1388 : BitVec 32 := 2#32
  let v2326 : BitVec 32 := Scalar.muli arg1 c2_i32_1388
  let c0_i32_1389 : BitVec 32 := 0#32
  let v2327 : BitVec 32 := Scalar.addi v2326 c0_i32_1389
  let c256_i32_1390 : BitVec 32 := 256#32
  let v2328 : BitVec 32 := Scalar.muli v2327 c256_i32_1390
  let c149_i32 : BitVec 32 := 149#32
  let v2329 : BitVec 32 := Scalar.addi v2328 c149_i32
  let v2331 : Index := Scalar.indexCast v2329
  ![0, 0, v2331.toNat]
def k0_mult301 (v2332 : BitVec 32) : BitVec 32 :=
  v2332

def k0_mult302 (i : grid0.Coords) : BitVec 32 :=
  let arg1 : BitVec 32 := BitVec.ofNat 32 (i 1).val
  let c2_i32_1388 : BitVec 32 := 2#32
  let v2326 : BitVec 32 := Scalar.muli arg1 c2_i32_1388
  let c0_i32_1389 : BitVec 32 := 0#32
  let v2327 : BitVec 32 := Scalar.addi v2326 c0_i32_1389
  let c256_i32_1390 : BitVec 32 := 256#32
  let v2328 : BitVec 32 := Scalar.muli v2327 c256_i32_1390
  let c149_i32 : BitVec 32 := 149#32
  let v2329 : BitVec 32 := Scalar.addi v2328 c149_i32
  let c8_i32_1394 : BitVec 32 := 8#32
  let v2334 : BitVec 32 := Scalar.muli v2329 c8_i32_1394
  v2334
def k0_off611 (i : grid0.Coords) : Fin 1 → Nat :=
  let c1_i32_1391 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2330 : BitVec 32 := Scalar.subi c1_i32_1391 v9
  ![v2330.toNat]
def k0_off612 (i : grid0.Coords) : Fin 3 → Nat :=
  let c1_i32_1391 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2330 : BitVec 32 := Scalar.subi c1_i32_1391 v9
  let arg1 : BitVec 32 := BitVec.ofNat 32 (i 1).val
  let c2_i32_1388 : BitVec 32 := 2#32
  let v2326 : BitVec 32 := Scalar.muli arg1 c2_i32_1388
  let c0_i32_1389 : BitVec 32 := 0#32
  let v2327 : BitVec 32 := Scalar.addi v2326 c0_i32_1389
  let c256_i32_1390 : BitVec 32 := 256#32
  let v2328 : BitVec 32 := Scalar.muli v2327 c256_i32_1390
  let c149_i32 : BitVec 32 := 149#32
  let v2329 : BitVec 32 := Scalar.addi v2328 c149_i32
  let c8_i32_1394 : BitVec 32 := 8#32
  let v2334 : BitVec 32 := Scalar.muli v2329 c8_i32_1394
  let v2335 : BitVec 32 := v2334
  let c0_i32_1395 : BitVec 32 := 0#32
  ![v2330.toNat, v2335.toNat, 0]
def k0_off613 (v2332 : BitVec 32) : Fin 2 → Nat :=
  let v2333 : BitVec 32 := v2332
  let c0_i32_1396 : BitVec 32 := 0#32
  ![v2333.toNat, 0]

def k0_chk151 (i : grid0.Coords) (v2332 : BitVec 32) : Prop :=
  (∀ (k0_h2 : k0_cond2 i = 1#1), 8 ∣ (k0_mult301 v2332).toNat) ∧
  (∀ (k0_h2 : k0_cond2 i = 1#1), ∀ a, (k0_off613 v2332) a + S8x128.size a ≤ S131072x128.size a)
theorem k0_mult301_dvd : ∀ (i : grid0.Coords) (v2332 : BitVec 32) (k0_hw151 : k0_chk151 i v2332), ∀ (k0_h2 : k0_cond2 i = 1#1), 8 ∣ (k0_mult301 v2332).toNat := fun i v2332 k0_hw151 k0_h2 => k0_hw151.1 k0_h2
theorem k0_off613_inb : ∀ (i : grid0.Coords) (v2332 : BitVec 32) (k0_hw151 : k0_chk151 i v2332), ∀ (k0_h2 : k0_cond2 i = 1#1), ∀ a, (k0_off613 v2332) a + S8x128.size a ≤ S131072x128.size a := fun i v2332 k0_hw151 k0_h2 => k0_hw151.2 k0_h2

def k0_off614 (i : grid0.Coords) : Fin 3 → Nat :=
  let c0_1401 : Index := 0#32
  let c0_1402 : Index := 0#32
  let arg1 : BitVec 32 := BitVec.ofNat 32 (i 1).val
  let c2_i32_1397 : BitVec 32 := 2#32
  let v2341 : BitVec 32 := Scalar.muli arg1 c2_i32_1397
  let c0_i32_1398 : BitVec 32 := 0#32
  let v2342 : BitVec 32 := Scalar.addi v2341 c0_i32_1398
  let c256_i32_1399 : BitVec 32 := 256#32
  let v2343 : BitVec 32 := Scalar.muli v2342 c256_i32_1399
  let c150_i32 : BitVec 32 := 150#32
  let v2344 : BitVec 32 := Scalar.addi v2343 c150_i32
  let v2346 : Index := Scalar.indexCast v2344
  ![0, 0, v2346.toNat]
def k0_mult303 (v2347 : BitVec 32) : BitVec 32 :=
  v2347

def k0_mult304 (i : grid0.Coords) : BitVec 32 :=
  let arg1 : BitVec 32 := BitVec.ofNat 32 (i 1).val
  let c2_i32_1397 : BitVec 32 := 2#32
  let v2341 : BitVec 32 := Scalar.muli arg1 c2_i32_1397
  let c0_i32_1398 : BitVec 32 := 0#32
  let v2342 : BitVec 32 := Scalar.addi v2341 c0_i32_1398
  let c256_i32_1399 : BitVec 32 := 256#32
  let v2343 : BitVec 32 := Scalar.muli v2342 c256_i32_1399
  let c150_i32 : BitVec 32 := 150#32
  let v2344 : BitVec 32 := Scalar.addi v2343 c150_i32
  let c8_i32_1403 : BitVec 32 := 8#32
  let v2349 : BitVec 32 := Scalar.muli v2344 c8_i32_1403
  v2349
def k0_off615 (i : grid0.Coords) : Fin 1 → Nat :=
  let c1_i32_1400 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2345 : BitVec 32 := Scalar.subi c1_i32_1400 v9
  ![v2345.toNat]
def k0_off616 (i : grid0.Coords) : Fin 3 → Nat :=
  let c1_i32_1400 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2345 : BitVec 32 := Scalar.subi c1_i32_1400 v9
  let arg1 : BitVec 32 := BitVec.ofNat 32 (i 1).val
  let c2_i32_1397 : BitVec 32 := 2#32
  let v2341 : BitVec 32 := Scalar.muli arg1 c2_i32_1397
  let c0_i32_1398 : BitVec 32 := 0#32
  let v2342 : BitVec 32 := Scalar.addi v2341 c0_i32_1398
  let c256_i32_1399 : BitVec 32 := 256#32
  let v2343 : BitVec 32 := Scalar.muli v2342 c256_i32_1399
  let c150_i32 : BitVec 32 := 150#32
  let v2344 : BitVec 32 := Scalar.addi v2343 c150_i32
  let c8_i32_1403 : BitVec 32 := 8#32
  let v2349 : BitVec 32 := Scalar.muli v2344 c8_i32_1403
  let v2350 : BitVec 32 := v2349
  let c0_i32_1404 : BitVec 32 := 0#32
  ![v2345.toNat, v2350.toNat, 0]
def k0_off617 (v2347 : BitVec 32) : Fin 2 → Nat :=
  let v2348 : BitVec 32 := v2347
  let c0_i32_1405 : BitVec 32 := 0#32
  ![v2348.toNat, 0]

def k0_chk152 (i : grid0.Coords) (v2347 : BitVec 32) : Prop :=
  (∀ (k0_h2 : k0_cond2 i = 1#1), 8 ∣ (k0_mult303 v2347).toNat) ∧
  (∀ (k0_h2 : k0_cond2 i = 1#1), ∀ a, (k0_off617 v2347) a + S8x128.size a ≤ S131072x128.size a)
theorem k0_mult303_dvd : ∀ (i : grid0.Coords) (v2347 : BitVec 32) (k0_hw152 : k0_chk152 i v2347), ∀ (k0_h2 : k0_cond2 i = 1#1), 8 ∣ (k0_mult303 v2347).toNat := fun i v2347 k0_hw152 k0_h2 => k0_hw152.1 k0_h2
theorem k0_off617_inb : ∀ (i : grid0.Coords) (v2347 : BitVec 32) (k0_hw152 : k0_chk152 i v2347), ∀ (k0_h2 : k0_cond2 i = 1#1), ∀ a, (k0_off617 v2347) a + S8x128.size a ≤ S131072x128.size a := fun i v2347 k0_hw152 k0_h2 => k0_hw152.2 k0_h2

def k0_off618 (i : grid0.Coords) : Fin 3 → Nat :=
  let c0_1410 : Index := 0#32
  let c0_1411 : Index := 0#32
  let arg1 : BitVec 32 := BitVec.ofNat 32 (i 1).val
  let c2_i32_1406 : BitVec 32 := 2#32
  let v2356 : BitVec 32 := Scalar.muli arg1 c2_i32_1406
  let c0_i32_1407 : BitVec 32 := 0#32
  let v2357 : BitVec 32 := Scalar.addi v2356 c0_i32_1407
  let c256_i32_1408 : BitVec 32 := 256#32
  let v2358 : BitVec 32 := Scalar.muli v2357 c256_i32_1408
  let c151_i32 : BitVec 32 := 151#32
  let v2359 : BitVec 32 := Scalar.addi v2358 c151_i32
  let v2361 : Index := Scalar.indexCast v2359
  ![0, 0, v2361.toNat]
def k0_mult305 (v2362 : BitVec 32) : BitVec 32 :=
  v2362

def k0_mult306 (i : grid0.Coords) : BitVec 32 :=
  let arg1 : BitVec 32 := BitVec.ofNat 32 (i 1).val
  let c2_i32_1406 : BitVec 32 := 2#32
  let v2356 : BitVec 32 := Scalar.muli arg1 c2_i32_1406
  let c0_i32_1407 : BitVec 32 := 0#32
  let v2357 : BitVec 32 := Scalar.addi v2356 c0_i32_1407
  let c256_i32_1408 : BitVec 32 := 256#32
  let v2358 : BitVec 32 := Scalar.muli v2357 c256_i32_1408
  let c151_i32 : BitVec 32 := 151#32
  let v2359 : BitVec 32 := Scalar.addi v2358 c151_i32
  let c8_i32_1412 : BitVec 32 := 8#32
  let v2364 : BitVec 32 := Scalar.muli v2359 c8_i32_1412
  v2364
def k0_off619 (i : grid0.Coords) : Fin 1 → Nat :=
  let c1_i32_1409 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2360 : BitVec 32 := Scalar.subi c1_i32_1409 v9
  ![v2360.toNat]
def k0_off620 (i : grid0.Coords) : Fin 3 → Nat :=
  let c1_i32_1409 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2360 : BitVec 32 := Scalar.subi c1_i32_1409 v9
  let arg1 : BitVec 32 := BitVec.ofNat 32 (i 1).val
  let c2_i32_1406 : BitVec 32 := 2#32
  let v2356 : BitVec 32 := Scalar.muli arg1 c2_i32_1406
  let c0_i32_1407 : BitVec 32 := 0#32
  let v2357 : BitVec 32 := Scalar.addi v2356 c0_i32_1407
  let c256_i32_1408 : BitVec 32 := 256#32
  let v2358 : BitVec 32 := Scalar.muli v2357 c256_i32_1408
  let c151_i32 : BitVec 32 := 151#32
  let v2359 : BitVec 32 := Scalar.addi v2358 c151_i32
  let c8_i32_1412 : BitVec 32 := 8#32
  let v2364 : BitVec 32 := Scalar.muli v2359 c8_i32_1412
  let v2365 : BitVec 32 := v2364
  let c0_i32_1413 : BitVec 32 := 0#32
  ![v2360.toNat, v2365.toNat, 0]
def k0_off621 (v2362 : BitVec 32) : Fin 2 → Nat :=
  let v2363 : BitVec 32 := v2362
  let c0_i32_1414 : BitVec 32 := 0#32
  ![v2363.toNat, 0]

def k0_chk153 (i : grid0.Coords) (v2362 : BitVec 32) : Prop :=
  (∀ (k0_h2 : k0_cond2 i = 1#1), 8 ∣ (k0_mult305 v2362).toNat) ∧
  (∀ (k0_h2 : k0_cond2 i = 1#1), ∀ a, (k0_off621 v2362) a + S8x128.size a ≤ S131072x128.size a)
theorem k0_mult305_dvd : ∀ (i : grid0.Coords) (v2362 : BitVec 32) (k0_hw153 : k0_chk153 i v2362), ∀ (k0_h2 : k0_cond2 i = 1#1), 8 ∣ (k0_mult305 v2362).toNat := fun i v2362 k0_hw153 k0_h2 => k0_hw153.1 k0_h2
theorem k0_off621_inb : ∀ (i : grid0.Coords) (v2362 : BitVec 32) (k0_hw153 : k0_chk153 i v2362), ∀ (k0_h2 : k0_cond2 i = 1#1), ∀ a, (k0_off621 v2362) a + S8x128.size a ≤ S131072x128.size a := fun i v2362 k0_hw153 k0_h2 => k0_hw153.2 k0_h2

def k0_off622 (i : grid0.Coords) : Fin 3 → Nat :=
  let c0_1419 : Index := 0#32
  let c0_1420 : Index := 0#32
  let arg1 : BitVec 32 := BitVec.ofNat 32 (i 1).val
  let c2_i32_1415 : BitVec 32 := 2#32
  let v2371 : BitVec 32 := Scalar.muli arg1 c2_i32_1415
  let c0_i32_1416 : BitVec 32 := 0#32
  let v2372 : BitVec 32 := Scalar.addi v2371 c0_i32_1416
  let c256_i32_1417 : BitVec 32 := 256#32
  let v2373 : BitVec 32 := Scalar.muli v2372 c256_i32_1417
  let c152_i32 : BitVec 32 := 152#32
  let v2374 : BitVec 32 := Scalar.addi v2373 c152_i32
  let v2376 : Index := Scalar.indexCast v2374
  ![0, 0, v2376.toNat]
def k0_mult307 (v2377 : BitVec 32) : BitVec 32 :=
  v2377

def k0_mult308 (i : grid0.Coords) : BitVec 32 :=
  let arg1 : BitVec 32 := BitVec.ofNat 32 (i 1).val
  let c2_i32_1415 : BitVec 32 := 2#32
  let v2371 : BitVec 32 := Scalar.muli arg1 c2_i32_1415
  let c0_i32_1416 : BitVec 32 := 0#32
  let v2372 : BitVec 32 := Scalar.addi v2371 c0_i32_1416
  let c256_i32_1417 : BitVec 32 := 256#32
  let v2373 : BitVec 32 := Scalar.muli v2372 c256_i32_1417
  let c152_i32 : BitVec 32 := 152#32
  let v2374 : BitVec 32 := Scalar.addi v2373 c152_i32
  let c8_i32_1421 : BitVec 32 := 8#32
  let v2379 : BitVec 32 := Scalar.muli v2374 c8_i32_1421
  v2379
def k0_off623 (i : grid0.Coords) : Fin 1 → Nat :=
  let c1_i32_1418 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2375 : BitVec 32 := Scalar.subi c1_i32_1418 v9
  ![v2375.toNat]
def k0_off624 (i : grid0.Coords) : Fin 3 → Nat :=
  let c1_i32_1418 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2375 : BitVec 32 := Scalar.subi c1_i32_1418 v9
  let arg1 : BitVec 32 := BitVec.ofNat 32 (i 1).val
  let c2_i32_1415 : BitVec 32 := 2#32
  let v2371 : BitVec 32 := Scalar.muli arg1 c2_i32_1415
  let c0_i32_1416 : BitVec 32 := 0#32
  let v2372 : BitVec 32 := Scalar.addi v2371 c0_i32_1416
  let c256_i32_1417 : BitVec 32 := 256#32
  let v2373 : BitVec 32 := Scalar.muli v2372 c256_i32_1417
  let c152_i32 : BitVec 32 := 152#32
  let v2374 : BitVec 32 := Scalar.addi v2373 c152_i32
  let c8_i32_1421 : BitVec 32 := 8#32
  let v2379 : BitVec 32 := Scalar.muli v2374 c8_i32_1421
  let v2380 : BitVec 32 := v2379
  let c0_i32_1422 : BitVec 32 := 0#32
  ![v2375.toNat, v2380.toNat, 0]
def k0_off625 (v2377 : BitVec 32) : Fin 2 → Nat :=
  let v2378 : BitVec 32 := v2377
  let c0_i32_1423 : BitVec 32 := 0#32
  ![v2378.toNat, 0]

def k0_chk154 (i : grid0.Coords) (v2377 : BitVec 32) : Prop :=
  (∀ (k0_h2 : k0_cond2 i = 1#1), 8 ∣ (k0_mult307 v2377).toNat) ∧
  (∀ (k0_h2 : k0_cond2 i = 1#1), ∀ a, (k0_off625 v2377) a + S8x128.size a ≤ S131072x128.size a)
theorem k0_mult307_dvd : ∀ (i : grid0.Coords) (v2377 : BitVec 32) (k0_hw154 : k0_chk154 i v2377), ∀ (k0_h2 : k0_cond2 i = 1#1), 8 ∣ (k0_mult307 v2377).toNat := fun i v2377 k0_hw154 k0_h2 => k0_hw154.1 k0_h2
theorem k0_off625_inb : ∀ (i : grid0.Coords) (v2377 : BitVec 32) (k0_hw154 : k0_chk154 i v2377), ∀ (k0_h2 : k0_cond2 i = 1#1), ∀ a, (k0_off625 v2377) a + S8x128.size a ≤ S131072x128.size a := fun i v2377 k0_hw154 k0_h2 => k0_hw154.2 k0_h2

def k0_off626 (i : grid0.Coords) : Fin 3 → Nat :=
  let c0_1428 : Index := 0#32
  let c0_1429 : Index := 0#32
  let arg1 : BitVec 32 := BitVec.ofNat 32 (i 1).val
  let c2_i32_1424 : BitVec 32 := 2#32
  let v2386 : BitVec 32 := Scalar.muli arg1 c2_i32_1424
  let c0_i32_1425 : BitVec 32 := 0#32
  let v2387 : BitVec 32 := Scalar.addi v2386 c0_i32_1425
  let c256_i32_1426 : BitVec 32 := 256#32
  let v2388 : BitVec 32 := Scalar.muli v2387 c256_i32_1426
  let c153_i32 : BitVec 32 := 153#32
  let v2389 : BitVec 32 := Scalar.addi v2388 c153_i32
  let v2391 : Index := Scalar.indexCast v2389
  ![0, 0, v2391.toNat]
def k0_mult309 (v2392 : BitVec 32) : BitVec 32 :=
  v2392

def k0_mult310 (i : grid0.Coords) : BitVec 32 :=
  let arg1 : BitVec 32 := BitVec.ofNat 32 (i 1).val
  let c2_i32_1424 : BitVec 32 := 2#32
  let v2386 : BitVec 32 := Scalar.muli arg1 c2_i32_1424
  let c0_i32_1425 : BitVec 32 := 0#32
  let v2387 : BitVec 32 := Scalar.addi v2386 c0_i32_1425
  let c256_i32_1426 : BitVec 32 := 256#32
  let v2388 : BitVec 32 := Scalar.muli v2387 c256_i32_1426
  let c153_i32 : BitVec 32 := 153#32
  let v2389 : BitVec 32 := Scalar.addi v2388 c153_i32
  let c8_i32_1430 : BitVec 32 := 8#32
  let v2394 : BitVec 32 := Scalar.muli v2389 c8_i32_1430
  v2394
def k0_off627 (i : grid0.Coords) : Fin 1 → Nat :=
  let c1_i32_1427 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2390 : BitVec 32 := Scalar.subi c1_i32_1427 v9
  ![v2390.toNat]
def k0_off628 (i : grid0.Coords) : Fin 3 → Nat :=
  let c1_i32_1427 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2390 : BitVec 32 := Scalar.subi c1_i32_1427 v9
  let arg1 : BitVec 32 := BitVec.ofNat 32 (i 1).val
  let c2_i32_1424 : BitVec 32 := 2#32
  let v2386 : BitVec 32 := Scalar.muli arg1 c2_i32_1424
  let c0_i32_1425 : BitVec 32 := 0#32
  let v2387 : BitVec 32 := Scalar.addi v2386 c0_i32_1425
  let c256_i32_1426 : BitVec 32 := 256#32
  let v2388 : BitVec 32 := Scalar.muli v2387 c256_i32_1426
  let c153_i32 : BitVec 32 := 153#32
  let v2389 : BitVec 32 := Scalar.addi v2388 c153_i32
  let c8_i32_1430 : BitVec 32 := 8#32
  let v2394 : BitVec 32 := Scalar.muli v2389 c8_i32_1430
  let v2395 : BitVec 32 := v2394
  let c0_i32_1431 : BitVec 32 := 0#32
  ![v2390.toNat, v2395.toNat, 0]
def k0_off629 (v2392 : BitVec 32) : Fin 2 → Nat :=
  let v2393 : BitVec 32 := v2392
  let c0_i32_1432 : BitVec 32 := 0#32
  ![v2393.toNat, 0]

def k0_chk155 (i : grid0.Coords) (v2392 : BitVec 32) : Prop :=
  (∀ (k0_h2 : k0_cond2 i = 1#1), 8 ∣ (k0_mult309 v2392).toNat) ∧
  (∀ (k0_h2 : k0_cond2 i = 1#1), ∀ a, (k0_off629 v2392) a + S8x128.size a ≤ S131072x128.size a)
theorem k0_mult309_dvd : ∀ (i : grid0.Coords) (v2392 : BitVec 32) (k0_hw155 : k0_chk155 i v2392), ∀ (k0_h2 : k0_cond2 i = 1#1), 8 ∣ (k0_mult309 v2392).toNat := fun i v2392 k0_hw155 k0_h2 => k0_hw155.1 k0_h2
theorem k0_off629_inb : ∀ (i : grid0.Coords) (v2392 : BitVec 32) (k0_hw155 : k0_chk155 i v2392), ∀ (k0_h2 : k0_cond2 i = 1#1), ∀ a, (k0_off629 v2392) a + S8x128.size a ≤ S131072x128.size a := fun i v2392 k0_hw155 k0_h2 => k0_hw155.2 k0_h2

def k0_off630 (i : grid0.Coords) : Fin 3 → Nat :=
  let c0_1437 : Index := 0#32
  let c0_1438 : Index := 0#32
  let arg1 : BitVec 32 := BitVec.ofNat 32 (i 1).val
  let c2_i32_1433 : BitVec 32 := 2#32
  let v2401 : BitVec 32 := Scalar.muli arg1 c2_i32_1433
  let c0_i32_1434 : BitVec 32 := 0#32
  let v2402 : BitVec 32 := Scalar.addi v2401 c0_i32_1434
  let c256_i32_1435 : BitVec 32 := 256#32
  let v2403 : BitVec 32 := Scalar.muli v2402 c256_i32_1435
  let c154_i32 : BitVec 32 := 154#32
  let v2404 : BitVec 32 := Scalar.addi v2403 c154_i32
  let v2406 : Index := Scalar.indexCast v2404
  ![0, 0, v2406.toNat]
def k0_mult311 (v2407 : BitVec 32) : BitVec 32 :=
  v2407

def k0_mult312 (i : grid0.Coords) : BitVec 32 :=
  let arg1 : BitVec 32 := BitVec.ofNat 32 (i 1).val
  let c2_i32_1433 : BitVec 32 := 2#32
  let v2401 : BitVec 32 := Scalar.muli arg1 c2_i32_1433
  let c0_i32_1434 : BitVec 32 := 0#32
  let v2402 : BitVec 32 := Scalar.addi v2401 c0_i32_1434
  let c256_i32_1435 : BitVec 32 := 256#32
  let v2403 : BitVec 32 := Scalar.muli v2402 c256_i32_1435
  let c154_i32 : BitVec 32 := 154#32
  let v2404 : BitVec 32 := Scalar.addi v2403 c154_i32
  let c8_i32_1439 : BitVec 32 := 8#32
  let v2409 : BitVec 32 := Scalar.muli v2404 c8_i32_1439
  v2409
def k0_off631 (i : grid0.Coords) : Fin 1 → Nat :=
  let c1_i32_1436 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2405 : BitVec 32 := Scalar.subi c1_i32_1436 v9
  ![v2405.toNat]
def k0_off632 (i : grid0.Coords) : Fin 3 → Nat :=
  let c1_i32_1436 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2405 : BitVec 32 := Scalar.subi c1_i32_1436 v9
  let arg1 : BitVec 32 := BitVec.ofNat 32 (i 1).val
  let c2_i32_1433 : BitVec 32 := 2#32
  let v2401 : BitVec 32 := Scalar.muli arg1 c2_i32_1433
  let c0_i32_1434 : BitVec 32 := 0#32
  let v2402 : BitVec 32 := Scalar.addi v2401 c0_i32_1434
  let c256_i32_1435 : BitVec 32 := 256#32
  let v2403 : BitVec 32 := Scalar.muli v2402 c256_i32_1435
  let c154_i32 : BitVec 32 := 154#32
  let v2404 : BitVec 32 := Scalar.addi v2403 c154_i32
  let c8_i32_1439 : BitVec 32 := 8#32
  let v2409 : BitVec 32 := Scalar.muli v2404 c8_i32_1439
  let v2410 : BitVec 32 := v2409
  let c0_i32_1440 : BitVec 32 := 0#32
  ![v2405.toNat, v2410.toNat, 0]
def k0_off633 (v2407 : BitVec 32) : Fin 2 → Nat :=
  let v2408 : BitVec 32 := v2407
  let c0_i32_1441 : BitVec 32 := 0#32
  ![v2408.toNat, 0]

def k0_chk156 (i : grid0.Coords) (v2407 : BitVec 32) : Prop :=
  (∀ (k0_h2 : k0_cond2 i = 1#1), 8 ∣ (k0_mult311 v2407).toNat) ∧
  (∀ (k0_h2 : k0_cond2 i = 1#1), ∀ a, (k0_off633 v2407) a + S8x128.size a ≤ S131072x128.size a)
theorem k0_mult311_dvd : ∀ (i : grid0.Coords) (v2407 : BitVec 32) (k0_hw156 : k0_chk156 i v2407), ∀ (k0_h2 : k0_cond2 i = 1#1), 8 ∣ (k0_mult311 v2407).toNat := fun i v2407 k0_hw156 k0_h2 => k0_hw156.1 k0_h2
theorem k0_off633_inb : ∀ (i : grid0.Coords) (v2407 : BitVec 32) (k0_hw156 : k0_chk156 i v2407), ∀ (k0_h2 : k0_cond2 i = 1#1), ∀ a, (k0_off633 v2407) a + S8x128.size a ≤ S131072x128.size a := fun i v2407 k0_hw156 k0_h2 => k0_hw156.2 k0_h2

def k0_off634 (i : grid0.Coords) : Fin 3 → Nat :=
  let c0_1446 : Index := 0#32
  let c0_1447 : Index := 0#32
  let arg1 : BitVec 32 := BitVec.ofNat 32 (i 1).val
  let c2_i32_1442 : BitVec 32 := 2#32
  let v2416 : BitVec 32 := Scalar.muli arg1 c2_i32_1442
  let c0_i32_1443 : BitVec 32 := 0#32
  let v2417 : BitVec 32 := Scalar.addi v2416 c0_i32_1443
  let c256_i32_1444 : BitVec 32 := 256#32
  let v2418 : BitVec 32 := Scalar.muli v2417 c256_i32_1444
  let c155_i32 : BitVec 32 := 155#32
  let v2419 : BitVec 32 := Scalar.addi v2418 c155_i32
  let v2421 : Index := Scalar.indexCast v2419
  ![0, 0, v2421.toNat]
def k0_mult313 (v2422 : BitVec 32) : BitVec 32 :=
  v2422

def k0_mult314 (i : grid0.Coords) : BitVec 32 :=
  let arg1 : BitVec 32 := BitVec.ofNat 32 (i 1).val
  let c2_i32_1442 : BitVec 32 := 2#32
  let v2416 : BitVec 32 := Scalar.muli arg1 c2_i32_1442
  let c0_i32_1443 : BitVec 32 := 0#32
  let v2417 : BitVec 32 := Scalar.addi v2416 c0_i32_1443
  let c256_i32_1444 : BitVec 32 := 256#32
  let v2418 : BitVec 32 := Scalar.muli v2417 c256_i32_1444
  let c155_i32 : BitVec 32 := 155#32
  let v2419 : BitVec 32 := Scalar.addi v2418 c155_i32
  let c8_i32_1448 : BitVec 32 := 8#32
  let v2424 : BitVec 32 := Scalar.muli v2419 c8_i32_1448
  v2424
def k0_off635 (i : grid0.Coords) : Fin 1 → Nat :=
  let c1_i32_1445 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2420 : BitVec 32 := Scalar.subi c1_i32_1445 v9
  ![v2420.toNat]
def k0_off636 (i : grid0.Coords) : Fin 3 → Nat :=
  let c1_i32_1445 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2420 : BitVec 32 := Scalar.subi c1_i32_1445 v9
  let arg1 : BitVec 32 := BitVec.ofNat 32 (i 1).val
  let c2_i32_1442 : BitVec 32 := 2#32
  let v2416 : BitVec 32 := Scalar.muli arg1 c2_i32_1442
  let c0_i32_1443 : BitVec 32 := 0#32
  let v2417 : BitVec 32 := Scalar.addi v2416 c0_i32_1443
  let c256_i32_1444 : BitVec 32 := 256#32
  let v2418 : BitVec 32 := Scalar.muli v2417 c256_i32_1444
  let c155_i32 : BitVec 32 := 155#32
  let v2419 : BitVec 32 := Scalar.addi v2418 c155_i32
  let c8_i32_1448 : BitVec 32 := 8#32
  let v2424 : BitVec 32 := Scalar.muli v2419 c8_i32_1448
  let v2425 : BitVec 32 := v2424
  let c0_i32_1449 : BitVec 32 := 0#32
  ![v2420.toNat, v2425.toNat, 0]
def k0_off637 (v2422 : BitVec 32) : Fin 2 → Nat :=
  let v2423 : BitVec 32 := v2422
  let c0_i32_1450 : BitVec 32 := 0#32
  ![v2423.toNat, 0]

def k0_chk157 (i : grid0.Coords) (v2422 : BitVec 32) : Prop :=
  (∀ (k0_h2 : k0_cond2 i = 1#1), 8 ∣ (k0_mult313 v2422).toNat) ∧
  (∀ (k0_h2 : k0_cond2 i = 1#1), ∀ a, (k0_off637 v2422) a + S8x128.size a ≤ S131072x128.size a)
theorem k0_mult313_dvd : ∀ (i : grid0.Coords) (v2422 : BitVec 32) (k0_hw157 : k0_chk157 i v2422), ∀ (k0_h2 : k0_cond2 i = 1#1), 8 ∣ (k0_mult313 v2422).toNat := fun i v2422 k0_hw157 k0_h2 => k0_hw157.1 k0_h2
theorem k0_off637_inb : ∀ (i : grid0.Coords) (v2422 : BitVec 32) (k0_hw157 : k0_chk157 i v2422), ∀ (k0_h2 : k0_cond2 i = 1#1), ∀ a, (k0_off637 v2422) a + S8x128.size a ≤ S131072x128.size a := fun i v2422 k0_hw157 k0_h2 => k0_hw157.2 k0_h2

def k0_off638 (i : grid0.Coords) : Fin 3 → Nat :=
  let c0_1455 : Index := 0#32
  let c0_1456 : Index := 0#32
  let arg1 : BitVec 32 := BitVec.ofNat 32 (i 1).val
  let c2_i32_1451 : BitVec 32 := 2#32
  let v2431 : BitVec 32 := Scalar.muli arg1 c2_i32_1451
  let c0_i32_1452 : BitVec 32 := 0#32
  let v2432 : BitVec 32 := Scalar.addi v2431 c0_i32_1452
  let c256_i32_1453 : BitVec 32 := 256#32
  let v2433 : BitVec 32 := Scalar.muli v2432 c256_i32_1453
  let c156_i32 : BitVec 32 := 156#32
  let v2434 : BitVec 32 := Scalar.addi v2433 c156_i32
  let v2436 : Index := Scalar.indexCast v2434
  ![0, 0, v2436.toNat]
def k0_mult315 (v2437 : BitVec 32) : BitVec 32 :=
  v2437

def k0_mult316 (i : grid0.Coords) : BitVec 32 :=
  let arg1 : BitVec 32 := BitVec.ofNat 32 (i 1).val
  let c2_i32_1451 : BitVec 32 := 2#32
  let v2431 : BitVec 32 := Scalar.muli arg1 c2_i32_1451
  let c0_i32_1452 : BitVec 32 := 0#32
  let v2432 : BitVec 32 := Scalar.addi v2431 c0_i32_1452
  let c256_i32_1453 : BitVec 32 := 256#32
  let v2433 : BitVec 32 := Scalar.muli v2432 c256_i32_1453
  let c156_i32 : BitVec 32 := 156#32
  let v2434 : BitVec 32 := Scalar.addi v2433 c156_i32
  let c8_i32_1457 : BitVec 32 := 8#32
  let v2439 : BitVec 32 := Scalar.muli v2434 c8_i32_1457
  v2439
def k0_off639 (i : grid0.Coords) : Fin 1 → Nat :=
  let c1_i32_1454 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2435 : BitVec 32 := Scalar.subi c1_i32_1454 v9
  ![v2435.toNat]
def k0_off640 (i : grid0.Coords) : Fin 3 → Nat :=
  let c1_i32_1454 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2435 : BitVec 32 := Scalar.subi c1_i32_1454 v9
  let arg1 : BitVec 32 := BitVec.ofNat 32 (i 1).val
  let c2_i32_1451 : BitVec 32 := 2#32
  let v2431 : BitVec 32 := Scalar.muli arg1 c2_i32_1451
  let c0_i32_1452 : BitVec 32 := 0#32
  let v2432 : BitVec 32 := Scalar.addi v2431 c0_i32_1452
  let c256_i32_1453 : BitVec 32 := 256#32
  let v2433 : BitVec 32 := Scalar.muli v2432 c256_i32_1453
  let c156_i32 : BitVec 32 := 156#32
  let v2434 : BitVec 32 := Scalar.addi v2433 c156_i32
  let c8_i32_1457 : BitVec 32 := 8#32
  let v2439 : BitVec 32 := Scalar.muli v2434 c8_i32_1457
  let v2440 : BitVec 32 := v2439
  let c0_i32_1458 : BitVec 32 := 0#32
  ![v2435.toNat, v2440.toNat, 0]
def k0_off641 (v2437 : BitVec 32) : Fin 2 → Nat :=
  let v2438 : BitVec 32 := v2437
  let c0_i32_1459 : BitVec 32 := 0#32
  ![v2438.toNat, 0]

def k0_chk158 (i : grid0.Coords) (v2437 : BitVec 32) : Prop :=
  (∀ (k0_h2 : k0_cond2 i = 1#1), 8 ∣ (k0_mult315 v2437).toNat) ∧
  (∀ (k0_h2 : k0_cond2 i = 1#1), ∀ a, (k0_off641 v2437) a + S8x128.size a ≤ S131072x128.size a)
theorem k0_mult315_dvd : ∀ (i : grid0.Coords) (v2437 : BitVec 32) (k0_hw158 : k0_chk158 i v2437), ∀ (k0_h2 : k0_cond2 i = 1#1), 8 ∣ (k0_mult315 v2437).toNat := fun i v2437 k0_hw158 k0_h2 => k0_hw158.1 k0_h2
theorem k0_off641_inb : ∀ (i : grid0.Coords) (v2437 : BitVec 32) (k0_hw158 : k0_chk158 i v2437), ∀ (k0_h2 : k0_cond2 i = 1#1), ∀ a, (k0_off641 v2437) a + S8x128.size a ≤ S131072x128.size a := fun i v2437 k0_hw158 k0_h2 => k0_hw158.2 k0_h2

def k0_off642 (i : grid0.Coords) : Fin 3 → Nat :=
  let c0_1464 : Index := 0#32
  let c0_1465 : Index := 0#32
  let arg1 : BitVec 32 := BitVec.ofNat 32 (i 1).val
  let c2_i32_1460 : BitVec 32 := 2#32
  let v2446 : BitVec 32 := Scalar.muli arg1 c2_i32_1460
  let c0_i32_1461 : BitVec 32 := 0#32
  let v2447 : BitVec 32 := Scalar.addi v2446 c0_i32_1461
  let c256_i32_1462 : BitVec 32 := 256#32
  let v2448 : BitVec 32 := Scalar.muli v2447 c256_i32_1462
  let c157_i32 : BitVec 32 := 157#32
  let v2449 : BitVec 32 := Scalar.addi v2448 c157_i32
  let v2451 : Index := Scalar.indexCast v2449
  ![0, 0, v2451.toNat]
def k0_mult317 (v2452 : BitVec 32) : BitVec 32 :=
  v2452

def k0_mult318 (i : grid0.Coords) : BitVec 32 :=
  let arg1 : BitVec 32 := BitVec.ofNat 32 (i 1).val
  let c2_i32_1460 : BitVec 32 := 2#32
  let v2446 : BitVec 32 := Scalar.muli arg1 c2_i32_1460
  let c0_i32_1461 : BitVec 32 := 0#32
  let v2447 : BitVec 32 := Scalar.addi v2446 c0_i32_1461
  let c256_i32_1462 : BitVec 32 := 256#32
  let v2448 : BitVec 32 := Scalar.muli v2447 c256_i32_1462
  let c157_i32 : BitVec 32 := 157#32
  let v2449 : BitVec 32 := Scalar.addi v2448 c157_i32
  let c8_i32_1466 : BitVec 32 := 8#32
  let v2454 : BitVec 32 := Scalar.muli v2449 c8_i32_1466
  v2454
def k0_off643 (i : grid0.Coords) : Fin 1 → Nat :=
  let c1_i32_1463 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2450 : BitVec 32 := Scalar.subi c1_i32_1463 v9
  ![v2450.toNat]
def k0_off644 (i : grid0.Coords) : Fin 3 → Nat :=
  let c1_i32_1463 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2450 : BitVec 32 := Scalar.subi c1_i32_1463 v9
  let arg1 : BitVec 32 := BitVec.ofNat 32 (i 1).val
  let c2_i32_1460 : BitVec 32 := 2#32
  let v2446 : BitVec 32 := Scalar.muli arg1 c2_i32_1460
  let c0_i32_1461 : BitVec 32 := 0#32
  let v2447 : BitVec 32 := Scalar.addi v2446 c0_i32_1461
  let c256_i32_1462 : BitVec 32 := 256#32
  let v2448 : BitVec 32 := Scalar.muli v2447 c256_i32_1462
  let c157_i32 : BitVec 32 := 157#32
  let v2449 : BitVec 32 := Scalar.addi v2448 c157_i32
  let c8_i32_1466 : BitVec 32 := 8#32
  let v2454 : BitVec 32 := Scalar.muli v2449 c8_i32_1466
  let v2455 : BitVec 32 := v2454
  let c0_i32_1467 : BitVec 32 := 0#32
  ![v2450.toNat, v2455.toNat, 0]
def k0_off645 (v2452 : BitVec 32) : Fin 2 → Nat :=
  let v2453 : BitVec 32 := v2452
  let c0_i32_1468 : BitVec 32 := 0#32
  ![v2453.toNat, 0]

def k0_chk159 (i : grid0.Coords) (v2452 : BitVec 32) : Prop :=
  (∀ (k0_h2 : k0_cond2 i = 1#1), 8 ∣ (k0_mult317 v2452).toNat) ∧
  (∀ (k0_h2 : k0_cond2 i = 1#1), ∀ a, (k0_off645 v2452) a + S8x128.size a ≤ S131072x128.size a)
theorem k0_mult317_dvd : ∀ (i : grid0.Coords) (v2452 : BitVec 32) (k0_hw159 : k0_chk159 i v2452), ∀ (k0_h2 : k0_cond2 i = 1#1), 8 ∣ (k0_mult317 v2452).toNat := fun i v2452 k0_hw159 k0_h2 => k0_hw159.1 k0_h2
theorem k0_off645_inb : ∀ (i : grid0.Coords) (v2452 : BitVec 32) (k0_hw159 : k0_chk159 i v2452), ∀ (k0_h2 : k0_cond2 i = 1#1), ∀ a, (k0_off645 v2452) a + S8x128.size a ≤ S131072x128.size a := fun i v2452 k0_hw159 k0_h2 => k0_hw159.2 k0_h2

def k0_off646 (i : grid0.Coords) : Fin 3 → Nat :=
  let c0_1473 : Index := 0#32
  let c0_1474 : Index := 0#32
  let arg1 : BitVec 32 := BitVec.ofNat 32 (i 1).val
  let c2_i32_1469 : BitVec 32 := 2#32
  let v2461 : BitVec 32 := Scalar.muli arg1 c2_i32_1469
  let c0_i32_1470 : BitVec 32 := 0#32
  let v2462 : BitVec 32 := Scalar.addi v2461 c0_i32_1470
  let c256_i32_1471 : BitVec 32 := 256#32
  let v2463 : BitVec 32 := Scalar.muli v2462 c256_i32_1471
  let c158_i32 : BitVec 32 := 158#32
  let v2464 : BitVec 32 := Scalar.addi v2463 c158_i32
  let v2466 : Index := Scalar.indexCast v2464
  ![0, 0, v2466.toNat]
def k0_mult319 (v2467 : BitVec 32) : BitVec 32 :=
  v2467

def k0_mult320 (i : grid0.Coords) : BitVec 32 :=
  let arg1 : BitVec 32 := BitVec.ofNat 32 (i 1).val
  let c2_i32_1469 : BitVec 32 := 2#32
  let v2461 : BitVec 32 := Scalar.muli arg1 c2_i32_1469
  let c0_i32_1470 : BitVec 32 := 0#32
  let v2462 : BitVec 32 := Scalar.addi v2461 c0_i32_1470
  let c256_i32_1471 : BitVec 32 := 256#32
  let v2463 : BitVec 32 := Scalar.muli v2462 c256_i32_1471
  let c158_i32 : BitVec 32 := 158#32
  let v2464 : BitVec 32 := Scalar.addi v2463 c158_i32
  let c8_i32_1475 : BitVec 32 := 8#32
  let v2469 : BitVec 32 := Scalar.muli v2464 c8_i32_1475
  v2469
def k0_off647 (i : grid0.Coords) : Fin 1 → Nat :=
  let c1_i32_1472 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2465 : BitVec 32 := Scalar.subi c1_i32_1472 v9
  ![v2465.toNat]
def k0_off648 (i : grid0.Coords) : Fin 3 → Nat :=
  let c1_i32_1472 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2465 : BitVec 32 := Scalar.subi c1_i32_1472 v9
  let arg1 : BitVec 32 := BitVec.ofNat 32 (i 1).val
  let c2_i32_1469 : BitVec 32 := 2#32
  let v2461 : BitVec 32 := Scalar.muli arg1 c2_i32_1469
  let c0_i32_1470 : BitVec 32 := 0#32
  let v2462 : BitVec 32 := Scalar.addi v2461 c0_i32_1470
  let c256_i32_1471 : BitVec 32 := 256#32
  let v2463 : BitVec 32 := Scalar.muli v2462 c256_i32_1471
  let c158_i32 : BitVec 32 := 158#32
  let v2464 : BitVec 32 := Scalar.addi v2463 c158_i32
  let c8_i32_1475 : BitVec 32 := 8#32
  let v2469 : BitVec 32 := Scalar.muli v2464 c8_i32_1475
  let v2470 : BitVec 32 := v2469
  let c0_i32_1476 : BitVec 32 := 0#32
  ![v2465.toNat, v2470.toNat, 0]
def k0_off649 (v2467 : BitVec 32) : Fin 2 → Nat :=
  let v2468 : BitVec 32 := v2467
  let c0_i32_1477 : BitVec 32 := 0#32
  ![v2468.toNat, 0]

def k0_chk160 (i : grid0.Coords) (v2467 : BitVec 32) : Prop :=
  (∀ (k0_h2 : k0_cond2 i = 1#1), 8 ∣ (k0_mult319 v2467).toNat) ∧
  (∀ (k0_h2 : k0_cond2 i = 1#1), ∀ a, (k0_off649 v2467) a + S8x128.size a ≤ S131072x128.size a)
theorem k0_mult319_dvd : ∀ (i : grid0.Coords) (v2467 : BitVec 32) (k0_hw160 : k0_chk160 i v2467), ∀ (k0_h2 : k0_cond2 i = 1#1), 8 ∣ (k0_mult319 v2467).toNat := fun i v2467 k0_hw160 k0_h2 => k0_hw160.1 k0_h2
theorem k0_off649_inb : ∀ (i : grid0.Coords) (v2467 : BitVec 32) (k0_hw160 : k0_chk160 i v2467), ∀ (k0_h2 : k0_cond2 i = 1#1), ∀ a, (k0_off649 v2467) a + S8x128.size a ≤ S131072x128.size a := fun i v2467 k0_hw160 k0_h2 => k0_hw160.2 k0_h2

def k0_off650 (i : grid0.Coords) : Fin 3 → Nat :=
  let c0_1482 : Index := 0#32
  let c0_1483 : Index := 0#32
  let arg1 : BitVec 32 := BitVec.ofNat 32 (i 1).val
  let c2_i32_1478 : BitVec 32 := 2#32
  let v2476 : BitVec 32 := Scalar.muli arg1 c2_i32_1478
  let c0_i32_1479 : BitVec 32 := 0#32
  let v2477 : BitVec 32 := Scalar.addi v2476 c0_i32_1479
  let c256_i32_1480 : BitVec 32 := 256#32
  let v2478 : BitVec 32 := Scalar.muli v2477 c256_i32_1480
  let c159_i32 : BitVec 32 := 159#32
  let v2479 : BitVec 32 := Scalar.addi v2478 c159_i32
  let v2481 : Index := Scalar.indexCast v2479
  ![0, 0, v2481.toNat]
def k0_mult321 (v2482 : BitVec 32) : BitVec 32 :=
  v2482

def k0_mult322 (i : grid0.Coords) : BitVec 32 :=
  let arg1 : BitVec 32 := BitVec.ofNat 32 (i 1).val
  let c2_i32_1478 : BitVec 32 := 2#32
  let v2476 : BitVec 32 := Scalar.muli arg1 c2_i32_1478
  let c0_i32_1479 : BitVec 32 := 0#32
  let v2477 : BitVec 32 := Scalar.addi v2476 c0_i32_1479
  let c256_i32_1480 : BitVec 32 := 256#32
  let v2478 : BitVec 32 := Scalar.muli v2477 c256_i32_1480
  let c159_i32 : BitVec 32 := 159#32
  let v2479 : BitVec 32 := Scalar.addi v2478 c159_i32
  let c8_i32_1484 : BitVec 32 := 8#32
  let v2484 : BitVec 32 := Scalar.muli v2479 c8_i32_1484
  v2484
def k0_off651 (i : grid0.Coords) : Fin 1 → Nat :=
  let c1_i32_1481 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2480 : BitVec 32 := Scalar.subi c1_i32_1481 v9
  ![v2480.toNat]
def k0_off652 (i : grid0.Coords) : Fin 3 → Nat :=
  let c1_i32_1481 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2480 : BitVec 32 := Scalar.subi c1_i32_1481 v9
  let arg1 : BitVec 32 := BitVec.ofNat 32 (i 1).val
  let c2_i32_1478 : BitVec 32 := 2#32
  let v2476 : BitVec 32 := Scalar.muli arg1 c2_i32_1478
  let c0_i32_1479 : BitVec 32 := 0#32
  let v2477 : BitVec 32 := Scalar.addi v2476 c0_i32_1479
  let c256_i32_1480 : BitVec 32 := 256#32
  let v2478 : BitVec 32 := Scalar.muli v2477 c256_i32_1480
  let c159_i32 : BitVec 32 := 159#32
  let v2479 : BitVec 32 := Scalar.addi v2478 c159_i32
  let c8_i32_1484 : BitVec 32 := 8#32
  let v2484 : BitVec 32 := Scalar.muli v2479 c8_i32_1484
  let v2485 : BitVec 32 := v2484
  let c0_i32_1485 : BitVec 32 := 0#32
  ![v2480.toNat, v2485.toNat, 0]
def k0_off653 (v2482 : BitVec 32) : Fin 2 → Nat :=
  let v2483 : BitVec 32 := v2482
  let c0_i32_1486 : BitVec 32 := 0#32
  ![v2483.toNat, 0]

def k0_chk161 (i : grid0.Coords) (v2482 : BitVec 32) : Prop :=
  (∀ (k0_h2 : k0_cond2 i = 1#1), 8 ∣ (k0_mult321 v2482).toNat) ∧
  (∀ (k0_h2 : k0_cond2 i = 1#1), ∀ a, (k0_off653 v2482) a + S8x128.size a ≤ S131072x128.size a)
theorem k0_mult321_dvd : ∀ (i : grid0.Coords) (v2482 : BitVec 32) (k0_hw161 : k0_chk161 i v2482), ∀ (k0_h2 : k0_cond2 i = 1#1), 8 ∣ (k0_mult321 v2482).toNat := fun i v2482 k0_hw161 k0_h2 => k0_hw161.1 k0_h2
theorem k0_off653_inb : ∀ (i : grid0.Coords) (v2482 : BitVec 32) (k0_hw161 : k0_chk161 i v2482), ∀ (k0_h2 : k0_cond2 i = 1#1), ∀ a, (k0_off653 v2482) a + S8x128.size a ≤ S131072x128.size a := fun i v2482 k0_hw161 k0_h2 => k0_hw161.2 k0_h2

def k0_off654 (i : grid0.Coords) : Fin 3 → Nat :=
  let c0_1491 : Index := 0#32
  let c0_1492 : Index := 0#32
  let arg1 : BitVec 32 := BitVec.ofNat 32 (i 1).val
  let c2_i32_1487 : BitVec 32 := 2#32
  let v2491 : BitVec 32 := Scalar.muli arg1 c2_i32_1487
  let c0_i32_1488 : BitVec 32 := 0#32
  let v2492 : BitVec 32 := Scalar.addi v2491 c0_i32_1488
  let c256_i32_1489 : BitVec 32 := 256#32
  let v2493 : BitVec 32 := Scalar.muli v2492 c256_i32_1489
  let c160_i32 : BitVec 32 := 160#32
  let v2494 : BitVec 32 := Scalar.addi v2493 c160_i32
  let v2496 : Index := Scalar.indexCast v2494
  ![0, 0, v2496.toNat]
def k0_mult323 (v2497 : BitVec 32) : BitVec 32 :=
  v2497

def k0_mult324 (i : grid0.Coords) : BitVec 32 :=
  let arg1 : BitVec 32 := BitVec.ofNat 32 (i 1).val
  let c2_i32_1487 : BitVec 32 := 2#32
  let v2491 : BitVec 32 := Scalar.muli arg1 c2_i32_1487
  let c0_i32_1488 : BitVec 32 := 0#32
  let v2492 : BitVec 32 := Scalar.addi v2491 c0_i32_1488
  let c256_i32_1489 : BitVec 32 := 256#32
  let v2493 : BitVec 32 := Scalar.muli v2492 c256_i32_1489
  let c160_i32 : BitVec 32 := 160#32
  let v2494 : BitVec 32 := Scalar.addi v2493 c160_i32
  let c8_i32_1493 : BitVec 32 := 8#32
  let v2499 : BitVec 32 := Scalar.muli v2494 c8_i32_1493
  v2499
def k0_off655 (i : grid0.Coords) : Fin 1 → Nat :=
  let c1_i32_1490 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2495 : BitVec 32 := Scalar.subi c1_i32_1490 v9
  ![v2495.toNat]
def k0_off656 (i : grid0.Coords) : Fin 3 → Nat :=
  let c1_i32_1490 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2495 : BitVec 32 := Scalar.subi c1_i32_1490 v9
  let arg1 : BitVec 32 := BitVec.ofNat 32 (i 1).val
  let c2_i32_1487 : BitVec 32 := 2#32
  let v2491 : BitVec 32 := Scalar.muli arg1 c2_i32_1487
  let c0_i32_1488 : BitVec 32 := 0#32
  let v2492 : BitVec 32 := Scalar.addi v2491 c0_i32_1488
  let c256_i32_1489 : BitVec 32 := 256#32
  let v2493 : BitVec 32 := Scalar.muli v2492 c256_i32_1489
  let c160_i32 : BitVec 32 := 160#32
  let v2494 : BitVec 32 := Scalar.addi v2493 c160_i32
  let c8_i32_1493 : BitVec 32 := 8#32
  let v2499 : BitVec 32 := Scalar.muli v2494 c8_i32_1493
  let v2500 : BitVec 32 := v2499
  let c0_i32_1494 : BitVec 32 := 0#32
  ![v2495.toNat, v2500.toNat, 0]
def k0_off657 (v2497 : BitVec 32) : Fin 2 → Nat :=
  let v2498 : BitVec 32 := v2497
  let c0_i32_1495 : BitVec 32 := 0#32
  ![v2498.toNat, 0]

def k0_chk162 (i : grid0.Coords) (v2497 : BitVec 32) : Prop :=
  (∀ (k0_h2 : k0_cond2 i = 1#1), 8 ∣ (k0_mult323 v2497).toNat) ∧
  (∀ (k0_h2 : k0_cond2 i = 1#1), ∀ a, (k0_off657 v2497) a + S8x128.size a ≤ S131072x128.size a)
theorem k0_mult323_dvd : ∀ (i : grid0.Coords) (v2497 : BitVec 32) (k0_hw162 : k0_chk162 i v2497), ∀ (k0_h2 : k0_cond2 i = 1#1), 8 ∣ (k0_mult323 v2497).toNat := fun i v2497 k0_hw162 k0_h2 => k0_hw162.1 k0_h2
theorem k0_off657_inb : ∀ (i : grid0.Coords) (v2497 : BitVec 32) (k0_hw162 : k0_chk162 i v2497), ∀ (k0_h2 : k0_cond2 i = 1#1), ∀ a, (k0_off657 v2497) a + S8x128.size a ≤ S131072x128.size a := fun i v2497 k0_hw162 k0_h2 => k0_hw162.2 k0_h2

def k0_off658 (i : grid0.Coords) : Fin 3 → Nat :=
  let c0_1500 : Index := 0#32
  let c0_1501 : Index := 0#32
  let arg1 : BitVec 32 := BitVec.ofNat 32 (i 1).val
  let c2_i32_1496 : BitVec 32 := 2#32
  let v2506 : BitVec 32 := Scalar.muli arg1 c2_i32_1496
  let c0_i32_1497 : BitVec 32 := 0#32
  let v2507 : BitVec 32 := Scalar.addi v2506 c0_i32_1497
  let c256_i32_1498 : BitVec 32 := 256#32
  let v2508 : BitVec 32 := Scalar.muli v2507 c256_i32_1498
  let c161_i32 : BitVec 32 := 161#32
  let v2509 : BitVec 32 := Scalar.addi v2508 c161_i32
  let v2511 : Index := Scalar.indexCast v2509
  ![0, 0, v2511.toNat]
def k0_mult325 (v2512 : BitVec 32) : BitVec 32 :=
  v2512

def k0_mult326 (i : grid0.Coords) : BitVec 32 :=
  let arg1 : BitVec 32 := BitVec.ofNat 32 (i 1).val
  let c2_i32_1496 : BitVec 32 := 2#32
  let v2506 : BitVec 32 := Scalar.muli arg1 c2_i32_1496
  let c0_i32_1497 : BitVec 32 := 0#32
  let v2507 : BitVec 32 := Scalar.addi v2506 c0_i32_1497
  let c256_i32_1498 : BitVec 32 := 256#32
  let v2508 : BitVec 32 := Scalar.muli v2507 c256_i32_1498
  let c161_i32 : BitVec 32 := 161#32
  let v2509 : BitVec 32 := Scalar.addi v2508 c161_i32
  let c8_i32_1502 : BitVec 32 := 8#32
  let v2514 : BitVec 32 := Scalar.muli v2509 c8_i32_1502
  v2514
def k0_off659 (i : grid0.Coords) : Fin 1 → Nat :=
  let c1_i32_1499 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2510 : BitVec 32 := Scalar.subi c1_i32_1499 v9
  ![v2510.toNat]
def k0_off660 (i : grid0.Coords) : Fin 3 → Nat :=
  let c1_i32_1499 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2510 : BitVec 32 := Scalar.subi c1_i32_1499 v9
  let arg1 : BitVec 32 := BitVec.ofNat 32 (i 1).val
  let c2_i32_1496 : BitVec 32 := 2#32
  let v2506 : BitVec 32 := Scalar.muli arg1 c2_i32_1496
  let c0_i32_1497 : BitVec 32 := 0#32
  let v2507 : BitVec 32 := Scalar.addi v2506 c0_i32_1497
  let c256_i32_1498 : BitVec 32 := 256#32
  let v2508 : BitVec 32 := Scalar.muli v2507 c256_i32_1498
  let c161_i32 : BitVec 32 := 161#32
  let v2509 : BitVec 32 := Scalar.addi v2508 c161_i32
  let c8_i32_1502 : BitVec 32 := 8#32
  let v2514 : BitVec 32 := Scalar.muli v2509 c8_i32_1502
  let v2515 : BitVec 32 := v2514
  let c0_i32_1503 : BitVec 32 := 0#32
  ![v2510.toNat, v2515.toNat, 0]
def k0_off661 (v2512 : BitVec 32) : Fin 2 → Nat :=
  let v2513 : BitVec 32 := v2512
  let c0_i32_1504 : BitVec 32 := 0#32
  ![v2513.toNat, 0]

def k0_chk163 (i : grid0.Coords) (v2512 : BitVec 32) : Prop :=
  (∀ (k0_h2 : k0_cond2 i = 1#1), 8 ∣ (k0_mult325 v2512).toNat) ∧
  (∀ (k0_h2 : k0_cond2 i = 1#1), ∀ a, (k0_off661 v2512) a + S8x128.size a ≤ S131072x128.size a)
theorem k0_mult325_dvd : ∀ (i : grid0.Coords) (v2512 : BitVec 32) (k0_hw163 : k0_chk163 i v2512), ∀ (k0_h2 : k0_cond2 i = 1#1), 8 ∣ (k0_mult325 v2512).toNat := fun i v2512 k0_hw163 k0_h2 => k0_hw163.1 k0_h2
theorem k0_off661_inb : ∀ (i : grid0.Coords) (v2512 : BitVec 32) (k0_hw163 : k0_chk163 i v2512), ∀ (k0_h2 : k0_cond2 i = 1#1), ∀ a, (k0_off661 v2512) a + S8x128.size a ≤ S131072x128.size a := fun i v2512 k0_hw163 k0_h2 => k0_hw163.2 k0_h2

def k0_off662 (i : grid0.Coords) : Fin 3 → Nat :=
  let c0_1509 : Index := 0#32
  let c0_1510 : Index := 0#32
  let arg1 : BitVec 32 := BitVec.ofNat 32 (i 1).val
  let c2_i32_1505 : BitVec 32 := 2#32
  let v2521 : BitVec 32 := Scalar.muli arg1 c2_i32_1505
  let c0_i32_1506 : BitVec 32 := 0#32
  let v2522 : BitVec 32 := Scalar.addi v2521 c0_i32_1506
  let c256_i32_1507 : BitVec 32 := 256#32
  let v2523 : BitVec 32 := Scalar.muli v2522 c256_i32_1507
  let c162_i32 : BitVec 32 := 162#32
  let v2524 : BitVec 32 := Scalar.addi v2523 c162_i32
  let v2526 : Index := Scalar.indexCast v2524
  ![0, 0, v2526.toNat]
def k0_mult327 (v2527 : BitVec 32) : BitVec 32 :=
  v2527

def k0_mult328 (i : grid0.Coords) : BitVec 32 :=
  let arg1 : BitVec 32 := BitVec.ofNat 32 (i 1).val
  let c2_i32_1505 : BitVec 32 := 2#32
  let v2521 : BitVec 32 := Scalar.muli arg1 c2_i32_1505
  let c0_i32_1506 : BitVec 32 := 0#32
  let v2522 : BitVec 32 := Scalar.addi v2521 c0_i32_1506
  let c256_i32_1507 : BitVec 32 := 256#32
  let v2523 : BitVec 32 := Scalar.muli v2522 c256_i32_1507
  let c162_i32 : BitVec 32 := 162#32
  let v2524 : BitVec 32 := Scalar.addi v2523 c162_i32
  let c8_i32_1511 : BitVec 32 := 8#32
  let v2529 : BitVec 32 := Scalar.muli v2524 c8_i32_1511
  v2529
def k0_off663 (i : grid0.Coords) : Fin 1 → Nat :=
  let c1_i32_1508 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2525 : BitVec 32 := Scalar.subi c1_i32_1508 v9
  ![v2525.toNat]
def k0_off664 (i : grid0.Coords) : Fin 3 → Nat :=
  let c1_i32_1508 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2525 : BitVec 32 := Scalar.subi c1_i32_1508 v9
  let arg1 : BitVec 32 := BitVec.ofNat 32 (i 1).val
  let c2_i32_1505 : BitVec 32 := 2#32
  let v2521 : BitVec 32 := Scalar.muli arg1 c2_i32_1505
  let c0_i32_1506 : BitVec 32 := 0#32
  let v2522 : BitVec 32 := Scalar.addi v2521 c0_i32_1506
  let c256_i32_1507 : BitVec 32 := 256#32
  let v2523 : BitVec 32 := Scalar.muli v2522 c256_i32_1507
  let c162_i32 : BitVec 32 := 162#32
  let v2524 : BitVec 32 := Scalar.addi v2523 c162_i32
  let c8_i32_1511 : BitVec 32 := 8#32
  let v2529 : BitVec 32 := Scalar.muli v2524 c8_i32_1511
  let v2530 : BitVec 32 := v2529
  let c0_i32_1512 : BitVec 32 := 0#32
  ![v2525.toNat, v2530.toNat, 0]
def k0_off665 (v2527 : BitVec 32) : Fin 2 → Nat :=
  let v2528 : BitVec 32 := v2527
  let c0_i32_1513 : BitVec 32 := 0#32
  ![v2528.toNat, 0]

def k0_chk164 (i : grid0.Coords) (v2527 : BitVec 32) : Prop :=
  (∀ (k0_h2 : k0_cond2 i = 1#1), 8 ∣ (k0_mult327 v2527).toNat) ∧
  (∀ (k0_h2 : k0_cond2 i = 1#1), ∀ a, (k0_off665 v2527) a + S8x128.size a ≤ S131072x128.size a)
theorem k0_mult327_dvd : ∀ (i : grid0.Coords) (v2527 : BitVec 32) (k0_hw164 : k0_chk164 i v2527), ∀ (k0_h2 : k0_cond2 i = 1#1), 8 ∣ (k0_mult327 v2527).toNat := fun i v2527 k0_hw164 k0_h2 => k0_hw164.1 k0_h2
theorem k0_off665_inb : ∀ (i : grid0.Coords) (v2527 : BitVec 32) (k0_hw164 : k0_chk164 i v2527), ∀ (k0_h2 : k0_cond2 i = 1#1), ∀ a, (k0_off665 v2527) a + S8x128.size a ≤ S131072x128.size a := fun i v2527 k0_hw164 k0_h2 => k0_hw164.2 k0_h2

def k0_off666 (i : grid0.Coords) : Fin 3 → Nat :=
  let c0_1518 : Index := 0#32
  let c0_1519 : Index := 0#32
  let arg1 : BitVec 32 := BitVec.ofNat 32 (i 1).val
  let c2_i32_1514 : BitVec 32 := 2#32
  let v2536 : BitVec 32 := Scalar.muli arg1 c2_i32_1514
  let c0_i32_1515 : BitVec 32 := 0#32
  let v2537 : BitVec 32 := Scalar.addi v2536 c0_i32_1515
  let c256_i32_1516 : BitVec 32 := 256#32
  let v2538 : BitVec 32 := Scalar.muli v2537 c256_i32_1516
  let c163_i32 : BitVec 32 := 163#32
  let v2539 : BitVec 32 := Scalar.addi v2538 c163_i32
  let v2541 : Index := Scalar.indexCast v2539
  ![0, 0, v2541.toNat]
def k0_mult329 (v2542 : BitVec 32) : BitVec 32 :=
  v2542

def k0_mult330 (i : grid0.Coords) : BitVec 32 :=
  let arg1 : BitVec 32 := BitVec.ofNat 32 (i 1).val
  let c2_i32_1514 : BitVec 32 := 2#32
  let v2536 : BitVec 32 := Scalar.muli arg1 c2_i32_1514
  let c0_i32_1515 : BitVec 32 := 0#32
  let v2537 : BitVec 32 := Scalar.addi v2536 c0_i32_1515
  let c256_i32_1516 : BitVec 32 := 256#32
  let v2538 : BitVec 32 := Scalar.muli v2537 c256_i32_1516
  let c163_i32 : BitVec 32 := 163#32
  let v2539 : BitVec 32 := Scalar.addi v2538 c163_i32
  let c8_i32_1520 : BitVec 32 := 8#32
  let v2544 : BitVec 32 := Scalar.muli v2539 c8_i32_1520
  v2544
def k0_off667 (i : grid0.Coords) : Fin 1 → Nat :=
  let c1_i32_1517 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2540 : BitVec 32 := Scalar.subi c1_i32_1517 v9
  ![v2540.toNat]
def k0_off668 (i : grid0.Coords) : Fin 3 → Nat :=
  let c1_i32_1517 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2540 : BitVec 32 := Scalar.subi c1_i32_1517 v9
  let arg1 : BitVec 32 := BitVec.ofNat 32 (i 1).val
  let c2_i32_1514 : BitVec 32 := 2#32
  let v2536 : BitVec 32 := Scalar.muli arg1 c2_i32_1514
  let c0_i32_1515 : BitVec 32 := 0#32
  let v2537 : BitVec 32 := Scalar.addi v2536 c0_i32_1515
  let c256_i32_1516 : BitVec 32 := 256#32
  let v2538 : BitVec 32 := Scalar.muli v2537 c256_i32_1516
  let c163_i32 : BitVec 32 := 163#32
  let v2539 : BitVec 32 := Scalar.addi v2538 c163_i32
  let c8_i32_1520 : BitVec 32 := 8#32
  let v2544 : BitVec 32 := Scalar.muli v2539 c8_i32_1520
  let v2545 : BitVec 32 := v2544
  let c0_i32_1521 : BitVec 32 := 0#32
  ![v2540.toNat, v2545.toNat, 0]
def k0_off669 (v2542 : BitVec 32) : Fin 2 → Nat :=
  let v2543 : BitVec 32 := v2542
  let c0_i32_1522 : BitVec 32 := 0#32
  ![v2543.toNat, 0]

def k0_chk165 (i : grid0.Coords) (v2542 : BitVec 32) : Prop :=
  (∀ (k0_h2 : k0_cond2 i = 1#1), 8 ∣ (k0_mult329 v2542).toNat) ∧
  (∀ (k0_h2 : k0_cond2 i = 1#1), ∀ a, (k0_off669 v2542) a + S8x128.size a ≤ S131072x128.size a)
theorem k0_mult329_dvd : ∀ (i : grid0.Coords) (v2542 : BitVec 32) (k0_hw165 : k0_chk165 i v2542), ∀ (k0_h2 : k0_cond2 i = 1#1), 8 ∣ (k0_mult329 v2542).toNat := fun i v2542 k0_hw165 k0_h2 => k0_hw165.1 k0_h2
theorem k0_off669_inb : ∀ (i : grid0.Coords) (v2542 : BitVec 32) (k0_hw165 : k0_chk165 i v2542), ∀ (k0_h2 : k0_cond2 i = 1#1), ∀ a, (k0_off669 v2542) a + S8x128.size a ≤ S131072x128.size a := fun i v2542 k0_hw165 k0_h2 => k0_hw165.2 k0_h2

def k0_off670 (i : grid0.Coords) : Fin 3 → Nat :=
  let c0_1527 : Index := 0#32
  let c0_1528 : Index := 0#32
  let arg1 : BitVec 32 := BitVec.ofNat 32 (i 1).val
  let c2_i32_1523 : BitVec 32 := 2#32
  let v2551 : BitVec 32 := Scalar.muli arg1 c2_i32_1523
  let c0_i32_1524 : BitVec 32 := 0#32
  let v2552 : BitVec 32 := Scalar.addi v2551 c0_i32_1524
  let c256_i32_1525 : BitVec 32 := 256#32
  let v2553 : BitVec 32 := Scalar.muli v2552 c256_i32_1525
  let c164_i32 : BitVec 32 := 164#32
  let v2554 : BitVec 32 := Scalar.addi v2553 c164_i32
  let v2556 : Index := Scalar.indexCast v2554
  ![0, 0, v2556.toNat]
def k0_mult331 (v2557 : BitVec 32) : BitVec 32 :=
  v2557

def k0_mult332 (i : grid0.Coords) : BitVec 32 :=
  let arg1 : BitVec 32 := BitVec.ofNat 32 (i 1).val
  let c2_i32_1523 : BitVec 32 := 2#32
  let v2551 : BitVec 32 := Scalar.muli arg1 c2_i32_1523
  let c0_i32_1524 : BitVec 32 := 0#32
  let v2552 : BitVec 32 := Scalar.addi v2551 c0_i32_1524
  let c256_i32_1525 : BitVec 32 := 256#32
  let v2553 : BitVec 32 := Scalar.muli v2552 c256_i32_1525
  let c164_i32 : BitVec 32 := 164#32
  let v2554 : BitVec 32 := Scalar.addi v2553 c164_i32
  let c8_i32_1529 : BitVec 32 := 8#32
  let v2559 : BitVec 32 := Scalar.muli v2554 c8_i32_1529
  v2559
def k0_off671 (i : grid0.Coords) : Fin 1 → Nat :=
  let c1_i32_1526 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2555 : BitVec 32 := Scalar.subi c1_i32_1526 v9
  ![v2555.toNat]
def k0_off672 (i : grid0.Coords) : Fin 3 → Nat :=
  let c1_i32_1526 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2555 : BitVec 32 := Scalar.subi c1_i32_1526 v9
  let arg1 : BitVec 32 := BitVec.ofNat 32 (i 1).val
  let c2_i32_1523 : BitVec 32 := 2#32
  let v2551 : BitVec 32 := Scalar.muli arg1 c2_i32_1523
  let c0_i32_1524 : BitVec 32 := 0#32
  let v2552 : BitVec 32 := Scalar.addi v2551 c0_i32_1524
  let c256_i32_1525 : BitVec 32 := 256#32
  let v2553 : BitVec 32 := Scalar.muli v2552 c256_i32_1525
  let c164_i32 : BitVec 32 := 164#32
  let v2554 : BitVec 32 := Scalar.addi v2553 c164_i32
  let c8_i32_1529 : BitVec 32 := 8#32
  let v2559 : BitVec 32 := Scalar.muli v2554 c8_i32_1529
  let v2560 : BitVec 32 := v2559
  let c0_i32_1530 : BitVec 32 := 0#32
  ![v2555.toNat, v2560.toNat, 0]
def k0_off673 (v2557 : BitVec 32) : Fin 2 → Nat :=
  let v2558 : BitVec 32 := v2557
  let c0_i32_1531 : BitVec 32 := 0#32
  ![v2558.toNat, 0]

def k0_chk166 (i : grid0.Coords) (v2557 : BitVec 32) : Prop :=
  (∀ (k0_h2 : k0_cond2 i = 1#1), 8 ∣ (k0_mult331 v2557).toNat) ∧
  (∀ (k0_h2 : k0_cond2 i = 1#1), ∀ a, (k0_off673 v2557) a + S8x128.size a ≤ S131072x128.size a)
theorem k0_mult331_dvd : ∀ (i : grid0.Coords) (v2557 : BitVec 32) (k0_hw166 : k0_chk166 i v2557), ∀ (k0_h2 : k0_cond2 i = 1#1), 8 ∣ (k0_mult331 v2557).toNat := fun i v2557 k0_hw166 k0_h2 => k0_hw166.1 k0_h2
theorem k0_off673_inb : ∀ (i : grid0.Coords) (v2557 : BitVec 32) (k0_hw166 : k0_chk166 i v2557), ∀ (k0_h2 : k0_cond2 i = 1#1), ∀ a, (k0_off673 v2557) a + S8x128.size a ≤ S131072x128.size a := fun i v2557 k0_hw166 k0_h2 => k0_hw166.2 k0_h2

def k0_off674 (i : grid0.Coords) : Fin 3 → Nat :=
  let c0_1536 : Index := 0#32
  let c0_1537 : Index := 0#32
  let arg1 : BitVec 32 := BitVec.ofNat 32 (i 1).val
  let c2_i32_1532 : BitVec 32 := 2#32
  let v2566 : BitVec 32 := Scalar.muli arg1 c2_i32_1532
  let c0_i32_1533 : BitVec 32 := 0#32
  let v2567 : BitVec 32 := Scalar.addi v2566 c0_i32_1533
  let c256_i32_1534 : BitVec 32 := 256#32
  let v2568 : BitVec 32 := Scalar.muli v2567 c256_i32_1534
  let c165_i32 : BitVec 32 := 165#32
  let v2569 : BitVec 32 := Scalar.addi v2568 c165_i32
  let v2571 : Index := Scalar.indexCast v2569
  ![0, 0, v2571.toNat]
def k0_mult333 (v2572 : BitVec 32) : BitVec 32 :=
  v2572

def k0_mult334 (i : grid0.Coords) : BitVec 32 :=
  let arg1 : BitVec 32 := BitVec.ofNat 32 (i 1).val
  let c2_i32_1532 : BitVec 32 := 2#32
  let v2566 : BitVec 32 := Scalar.muli arg1 c2_i32_1532
  let c0_i32_1533 : BitVec 32 := 0#32
  let v2567 : BitVec 32 := Scalar.addi v2566 c0_i32_1533
  let c256_i32_1534 : BitVec 32 := 256#32
  let v2568 : BitVec 32 := Scalar.muli v2567 c256_i32_1534
  let c165_i32 : BitVec 32 := 165#32
  let v2569 : BitVec 32 := Scalar.addi v2568 c165_i32
  let c8_i32_1538 : BitVec 32 := 8#32
  let v2574 : BitVec 32 := Scalar.muli v2569 c8_i32_1538
  v2574
def k0_off675 (i : grid0.Coords) : Fin 1 → Nat :=
  let c1_i32_1535 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2570 : BitVec 32 := Scalar.subi c1_i32_1535 v9
  ![v2570.toNat]
def k0_off676 (i : grid0.Coords) : Fin 3 → Nat :=
  let c1_i32_1535 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2570 : BitVec 32 := Scalar.subi c1_i32_1535 v9
  let arg1 : BitVec 32 := BitVec.ofNat 32 (i 1).val
  let c2_i32_1532 : BitVec 32 := 2#32
  let v2566 : BitVec 32 := Scalar.muli arg1 c2_i32_1532
  let c0_i32_1533 : BitVec 32 := 0#32
  let v2567 : BitVec 32 := Scalar.addi v2566 c0_i32_1533
  let c256_i32_1534 : BitVec 32 := 256#32
  let v2568 : BitVec 32 := Scalar.muli v2567 c256_i32_1534
  let c165_i32 : BitVec 32 := 165#32
  let v2569 : BitVec 32 := Scalar.addi v2568 c165_i32
  let c8_i32_1538 : BitVec 32 := 8#32
  let v2574 : BitVec 32 := Scalar.muli v2569 c8_i32_1538
  let v2575 : BitVec 32 := v2574
  let c0_i32_1539 : BitVec 32 := 0#32
  ![v2570.toNat, v2575.toNat, 0]
def k0_off677 (v2572 : BitVec 32) : Fin 2 → Nat :=
  let v2573 : BitVec 32 := v2572
  let c0_i32_1540 : BitVec 32 := 0#32
  ![v2573.toNat, 0]

def k0_chk167 (i : grid0.Coords) (v2572 : BitVec 32) : Prop :=
  (∀ (k0_h2 : k0_cond2 i = 1#1), 8 ∣ (k0_mult333 v2572).toNat) ∧
  (∀ (k0_h2 : k0_cond2 i = 1#1), ∀ a, (k0_off677 v2572) a + S8x128.size a ≤ S131072x128.size a)
theorem k0_mult333_dvd : ∀ (i : grid0.Coords) (v2572 : BitVec 32) (k0_hw167 : k0_chk167 i v2572), ∀ (k0_h2 : k0_cond2 i = 1#1), 8 ∣ (k0_mult333 v2572).toNat := fun i v2572 k0_hw167 k0_h2 => k0_hw167.1 k0_h2
theorem k0_off677_inb : ∀ (i : grid0.Coords) (v2572 : BitVec 32) (k0_hw167 : k0_chk167 i v2572), ∀ (k0_h2 : k0_cond2 i = 1#1), ∀ a, (k0_off677 v2572) a + S8x128.size a ≤ S131072x128.size a := fun i v2572 k0_hw167 k0_h2 => k0_hw167.2 k0_h2

def k0_off678 (i : grid0.Coords) : Fin 3 → Nat :=
  let c0_1545 : Index := 0#32
  let c0_1546 : Index := 0#32
  let arg1 : BitVec 32 := BitVec.ofNat 32 (i 1).val
  let c2_i32_1541 : BitVec 32 := 2#32
  let v2581 : BitVec 32 := Scalar.muli arg1 c2_i32_1541
  let c0_i32_1542 : BitVec 32 := 0#32
  let v2582 : BitVec 32 := Scalar.addi v2581 c0_i32_1542
  let c256_i32_1543 : BitVec 32 := 256#32
  let v2583 : BitVec 32 := Scalar.muli v2582 c256_i32_1543
  let c166_i32 : BitVec 32 := 166#32
  let v2584 : BitVec 32 := Scalar.addi v2583 c166_i32
  let v2586 : Index := Scalar.indexCast v2584
  ![0, 0, v2586.toNat]
def k0_mult335 (v2587 : BitVec 32) : BitVec 32 :=
  v2587

def k0_mult336 (i : grid0.Coords) : BitVec 32 :=
  let arg1 : BitVec 32 := BitVec.ofNat 32 (i 1).val
  let c2_i32_1541 : BitVec 32 := 2#32
  let v2581 : BitVec 32 := Scalar.muli arg1 c2_i32_1541
  let c0_i32_1542 : BitVec 32 := 0#32
  let v2582 : BitVec 32 := Scalar.addi v2581 c0_i32_1542
  let c256_i32_1543 : BitVec 32 := 256#32
  let v2583 : BitVec 32 := Scalar.muli v2582 c256_i32_1543
  let c166_i32 : BitVec 32 := 166#32
  let v2584 : BitVec 32 := Scalar.addi v2583 c166_i32
  let c8_i32_1547 : BitVec 32 := 8#32
  let v2589 : BitVec 32 := Scalar.muli v2584 c8_i32_1547
  v2589
def k0_off679 (i : grid0.Coords) : Fin 1 → Nat :=
  let c1_i32_1544 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2585 : BitVec 32 := Scalar.subi c1_i32_1544 v9
  ![v2585.toNat]
def k0_off680 (i : grid0.Coords) : Fin 3 → Nat :=
  let c1_i32_1544 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2585 : BitVec 32 := Scalar.subi c1_i32_1544 v9
  let arg1 : BitVec 32 := BitVec.ofNat 32 (i 1).val
  let c2_i32_1541 : BitVec 32 := 2#32
  let v2581 : BitVec 32 := Scalar.muli arg1 c2_i32_1541
  let c0_i32_1542 : BitVec 32 := 0#32
  let v2582 : BitVec 32 := Scalar.addi v2581 c0_i32_1542
  let c256_i32_1543 : BitVec 32 := 256#32
  let v2583 : BitVec 32 := Scalar.muli v2582 c256_i32_1543
  let c166_i32 : BitVec 32 := 166#32
  let v2584 : BitVec 32 := Scalar.addi v2583 c166_i32
  let c8_i32_1547 : BitVec 32 := 8#32
  let v2589 : BitVec 32 := Scalar.muli v2584 c8_i32_1547
  let v2590 : BitVec 32 := v2589
  let c0_i32_1548 : BitVec 32 := 0#32
  ![v2585.toNat, v2590.toNat, 0]
def k0_off681 (v2587 : BitVec 32) : Fin 2 → Nat :=
  let v2588 : BitVec 32 := v2587
  let c0_i32_1549 : BitVec 32 := 0#32
  ![v2588.toNat, 0]

def k0_chk168 (i : grid0.Coords) (v2587 : BitVec 32) : Prop :=
  (∀ (k0_h2 : k0_cond2 i = 1#1), 8 ∣ (k0_mult335 v2587).toNat) ∧
  (∀ (k0_h2 : k0_cond2 i = 1#1), ∀ a, (k0_off681 v2587) a + S8x128.size a ≤ S131072x128.size a)
theorem k0_mult335_dvd : ∀ (i : grid0.Coords) (v2587 : BitVec 32) (k0_hw168 : k0_chk168 i v2587), ∀ (k0_h2 : k0_cond2 i = 1#1), 8 ∣ (k0_mult335 v2587).toNat := fun i v2587 k0_hw168 k0_h2 => k0_hw168.1 k0_h2
theorem k0_off681_inb : ∀ (i : grid0.Coords) (v2587 : BitVec 32) (k0_hw168 : k0_chk168 i v2587), ∀ (k0_h2 : k0_cond2 i = 1#1), ∀ a, (k0_off681 v2587) a + S8x128.size a ≤ S131072x128.size a := fun i v2587 k0_hw168 k0_h2 => k0_hw168.2 k0_h2

def k0_off682 (i : grid0.Coords) : Fin 3 → Nat :=
  let c0_1554 : Index := 0#32
  let c0_1555 : Index := 0#32
  let arg1 : BitVec 32 := BitVec.ofNat 32 (i 1).val
  let c2_i32_1550 : BitVec 32 := 2#32
  let v2596 : BitVec 32 := Scalar.muli arg1 c2_i32_1550
  let c0_i32_1551 : BitVec 32 := 0#32
  let v2597 : BitVec 32 := Scalar.addi v2596 c0_i32_1551
  let c256_i32_1552 : BitVec 32 := 256#32
  let v2598 : BitVec 32 := Scalar.muli v2597 c256_i32_1552
  let c167_i32 : BitVec 32 := 167#32
  let v2599 : BitVec 32 := Scalar.addi v2598 c167_i32
  let v2601 : Index := Scalar.indexCast v2599
  ![0, 0, v2601.toNat]
def k0_mult337 (v2602 : BitVec 32) : BitVec 32 :=
  v2602

def k0_mult338 (i : grid0.Coords) : BitVec 32 :=
  let arg1 : BitVec 32 := BitVec.ofNat 32 (i 1).val
  let c2_i32_1550 : BitVec 32 := 2#32
  let v2596 : BitVec 32 := Scalar.muli arg1 c2_i32_1550
  let c0_i32_1551 : BitVec 32 := 0#32
  let v2597 : BitVec 32 := Scalar.addi v2596 c0_i32_1551
  let c256_i32_1552 : BitVec 32 := 256#32
  let v2598 : BitVec 32 := Scalar.muli v2597 c256_i32_1552
  let c167_i32 : BitVec 32 := 167#32
  let v2599 : BitVec 32 := Scalar.addi v2598 c167_i32
  let c8_i32_1556 : BitVec 32 := 8#32
  let v2604 : BitVec 32 := Scalar.muli v2599 c8_i32_1556
  v2604
def k0_off683 (i : grid0.Coords) : Fin 1 → Nat :=
  let c1_i32_1553 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2600 : BitVec 32 := Scalar.subi c1_i32_1553 v9
  ![v2600.toNat]
def k0_off684 (i : grid0.Coords) : Fin 3 → Nat :=
  let c1_i32_1553 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2600 : BitVec 32 := Scalar.subi c1_i32_1553 v9
  let arg1 : BitVec 32 := BitVec.ofNat 32 (i 1).val
  let c2_i32_1550 : BitVec 32 := 2#32
  let v2596 : BitVec 32 := Scalar.muli arg1 c2_i32_1550
  let c0_i32_1551 : BitVec 32 := 0#32
  let v2597 : BitVec 32 := Scalar.addi v2596 c0_i32_1551
  let c256_i32_1552 : BitVec 32 := 256#32
  let v2598 : BitVec 32 := Scalar.muli v2597 c256_i32_1552
  let c167_i32 : BitVec 32 := 167#32
  let v2599 : BitVec 32 := Scalar.addi v2598 c167_i32
  let c8_i32_1556 : BitVec 32 := 8#32
  let v2604 : BitVec 32 := Scalar.muli v2599 c8_i32_1556
  let v2605 : BitVec 32 := v2604
  let c0_i32_1557 : BitVec 32 := 0#32
  ![v2600.toNat, v2605.toNat, 0]
def k0_off685 (v2602 : BitVec 32) : Fin 2 → Nat :=
  let v2603 : BitVec 32 := v2602
  let c0_i32_1558 : BitVec 32 := 0#32
  ![v2603.toNat, 0]

def k0_chk169 (i : grid0.Coords) (v2602 : BitVec 32) : Prop :=
  (∀ (k0_h2 : k0_cond2 i = 1#1), 8 ∣ (k0_mult337 v2602).toNat) ∧
  (∀ (k0_h2 : k0_cond2 i = 1#1), ∀ a, (k0_off685 v2602) a + S8x128.size a ≤ S131072x128.size a)
theorem k0_mult337_dvd : ∀ (i : grid0.Coords) (v2602 : BitVec 32) (k0_hw169 : k0_chk169 i v2602), ∀ (k0_h2 : k0_cond2 i = 1#1), 8 ∣ (k0_mult337 v2602).toNat := fun i v2602 k0_hw169 k0_h2 => k0_hw169.1 k0_h2
theorem k0_off685_inb : ∀ (i : grid0.Coords) (v2602 : BitVec 32) (k0_hw169 : k0_chk169 i v2602), ∀ (k0_h2 : k0_cond2 i = 1#1), ∀ a, (k0_off685 v2602) a + S8x128.size a ≤ S131072x128.size a := fun i v2602 k0_hw169 k0_h2 => k0_hw169.2 k0_h2

def k0_off686 (i : grid0.Coords) : Fin 3 → Nat :=
  let c0_1563 : Index := 0#32
  let c0_1564 : Index := 0#32
  let arg1 : BitVec 32 := BitVec.ofNat 32 (i 1).val
  let c2_i32_1559 : BitVec 32 := 2#32
  let v2611 : BitVec 32 := Scalar.muli arg1 c2_i32_1559
  let c0_i32_1560 : BitVec 32 := 0#32
  let v2612 : BitVec 32 := Scalar.addi v2611 c0_i32_1560
  let c256_i32_1561 : BitVec 32 := 256#32
  let v2613 : BitVec 32 := Scalar.muli v2612 c256_i32_1561
  let c168_i32 : BitVec 32 := 168#32
  let v2614 : BitVec 32 := Scalar.addi v2613 c168_i32
  let v2616 : Index := Scalar.indexCast v2614
  ![0, 0, v2616.toNat]
def k0_mult339 (v2617 : BitVec 32) : BitVec 32 :=
  v2617

def k0_mult340 (i : grid0.Coords) : BitVec 32 :=
  let arg1 : BitVec 32 := BitVec.ofNat 32 (i 1).val
  let c2_i32_1559 : BitVec 32 := 2#32
  let v2611 : BitVec 32 := Scalar.muli arg1 c2_i32_1559
  let c0_i32_1560 : BitVec 32 := 0#32
  let v2612 : BitVec 32 := Scalar.addi v2611 c0_i32_1560
  let c256_i32_1561 : BitVec 32 := 256#32
  let v2613 : BitVec 32 := Scalar.muli v2612 c256_i32_1561
  let c168_i32 : BitVec 32 := 168#32
  let v2614 : BitVec 32 := Scalar.addi v2613 c168_i32
  let c8_i32_1565 : BitVec 32 := 8#32
  let v2619 : BitVec 32 := Scalar.muli v2614 c8_i32_1565
  v2619
def k0_off687 (i : grid0.Coords) : Fin 1 → Nat :=
  let c1_i32_1562 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2615 : BitVec 32 := Scalar.subi c1_i32_1562 v9
  ![v2615.toNat]
def k0_off688 (i : grid0.Coords) : Fin 3 → Nat :=
  let c1_i32_1562 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2615 : BitVec 32 := Scalar.subi c1_i32_1562 v9
  let arg1 : BitVec 32 := BitVec.ofNat 32 (i 1).val
  let c2_i32_1559 : BitVec 32 := 2#32
  let v2611 : BitVec 32 := Scalar.muli arg1 c2_i32_1559
  let c0_i32_1560 : BitVec 32 := 0#32
  let v2612 : BitVec 32 := Scalar.addi v2611 c0_i32_1560
  let c256_i32_1561 : BitVec 32 := 256#32
  let v2613 : BitVec 32 := Scalar.muli v2612 c256_i32_1561
  let c168_i32 : BitVec 32 := 168#32
  let v2614 : BitVec 32 := Scalar.addi v2613 c168_i32
  let c8_i32_1565 : BitVec 32 := 8#32
  let v2619 : BitVec 32 := Scalar.muli v2614 c8_i32_1565
  let v2620 : BitVec 32 := v2619
  let c0_i32_1566 : BitVec 32 := 0#32
  ![v2615.toNat, v2620.toNat, 0]
def k0_off689 (v2617 : BitVec 32) : Fin 2 → Nat :=
  let v2618 : BitVec 32 := v2617
  let c0_i32_1567 : BitVec 32 := 0#32
  ![v2618.toNat, 0]

def k0_chk170 (i : grid0.Coords) (v2617 : BitVec 32) : Prop :=
  (∀ (k0_h2 : k0_cond2 i = 1#1), 8 ∣ (k0_mult339 v2617).toNat) ∧
  (∀ (k0_h2 : k0_cond2 i = 1#1), ∀ a, (k0_off689 v2617) a + S8x128.size a ≤ S131072x128.size a)
theorem k0_mult339_dvd : ∀ (i : grid0.Coords) (v2617 : BitVec 32) (k0_hw170 : k0_chk170 i v2617), ∀ (k0_h2 : k0_cond2 i = 1#1), 8 ∣ (k0_mult339 v2617).toNat := fun i v2617 k0_hw170 k0_h2 => k0_hw170.1 k0_h2
theorem k0_off689_inb : ∀ (i : grid0.Coords) (v2617 : BitVec 32) (k0_hw170 : k0_chk170 i v2617), ∀ (k0_h2 : k0_cond2 i = 1#1), ∀ a, (k0_off689 v2617) a + S8x128.size a ≤ S131072x128.size a := fun i v2617 k0_hw170 k0_h2 => k0_hw170.2 k0_h2

def k0_off690 (i : grid0.Coords) : Fin 3 → Nat :=
  let c0_1572 : Index := 0#32
  let c0_1573 : Index := 0#32
  let arg1 : BitVec 32 := BitVec.ofNat 32 (i 1).val
  let c2_i32_1568 : BitVec 32 := 2#32
  let v2626 : BitVec 32 := Scalar.muli arg1 c2_i32_1568
  let c0_i32_1569 : BitVec 32 := 0#32
  let v2627 : BitVec 32 := Scalar.addi v2626 c0_i32_1569
  let c256_i32_1570 : BitVec 32 := 256#32
  let v2628 : BitVec 32 := Scalar.muli v2627 c256_i32_1570
  let c169_i32 : BitVec 32 := 169#32
  let v2629 : BitVec 32 := Scalar.addi v2628 c169_i32
  let v2631 : Index := Scalar.indexCast v2629
  ![0, 0, v2631.toNat]
def k0_mult341 (v2632 : BitVec 32) : BitVec 32 :=
  v2632

def k0_mult342 (i : grid0.Coords) : BitVec 32 :=
  let arg1 : BitVec 32 := BitVec.ofNat 32 (i 1).val
  let c2_i32_1568 : BitVec 32 := 2#32
  let v2626 : BitVec 32 := Scalar.muli arg1 c2_i32_1568
  let c0_i32_1569 : BitVec 32 := 0#32
  let v2627 : BitVec 32 := Scalar.addi v2626 c0_i32_1569
  let c256_i32_1570 : BitVec 32 := 256#32
  let v2628 : BitVec 32 := Scalar.muli v2627 c256_i32_1570
  let c169_i32 : BitVec 32 := 169#32
  let v2629 : BitVec 32 := Scalar.addi v2628 c169_i32
  let c8_i32_1574 : BitVec 32 := 8#32
  let v2634 : BitVec 32 := Scalar.muli v2629 c8_i32_1574
  v2634
def k0_off691 (i : grid0.Coords) : Fin 1 → Nat :=
  let c1_i32_1571 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2630 : BitVec 32 := Scalar.subi c1_i32_1571 v9
  ![v2630.toNat]
def k0_off692 (i : grid0.Coords) : Fin 3 → Nat :=
  let c1_i32_1571 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2630 : BitVec 32 := Scalar.subi c1_i32_1571 v9
  let arg1 : BitVec 32 := BitVec.ofNat 32 (i 1).val
  let c2_i32_1568 : BitVec 32 := 2#32
  let v2626 : BitVec 32 := Scalar.muli arg1 c2_i32_1568
  let c0_i32_1569 : BitVec 32 := 0#32
  let v2627 : BitVec 32 := Scalar.addi v2626 c0_i32_1569
  let c256_i32_1570 : BitVec 32 := 256#32
  let v2628 : BitVec 32 := Scalar.muli v2627 c256_i32_1570
  let c169_i32 : BitVec 32 := 169#32
  let v2629 : BitVec 32 := Scalar.addi v2628 c169_i32
  let c8_i32_1574 : BitVec 32 := 8#32
  let v2634 : BitVec 32 := Scalar.muli v2629 c8_i32_1574
  let v2635 : BitVec 32 := v2634
  let c0_i32_1575 : BitVec 32 := 0#32
  ![v2630.toNat, v2635.toNat, 0]
def k0_off693 (v2632 : BitVec 32) : Fin 2 → Nat :=
  let v2633 : BitVec 32 := v2632
  let c0_i32_1576 : BitVec 32 := 0#32
  ![v2633.toNat, 0]

def k0_chk171 (i : grid0.Coords) (v2632 : BitVec 32) : Prop :=
  (∀ (k0_h2 : k0_cond2 i = 1#1), 8 ∣ (k0_mult341 v2632).toNat) ∧
  (∀ (k0_h2 : k0_cond2 i = 1#1), ∀ a, (k0_off693 v2632) a + S8x128.size a ≤ S131072x128.size a)
theorem k0_mult341_dvd : ∀ (i : grid0.Coords) (v2632 : BitVec 32) (k0_hw171 : k0_chk171 i v2632), ∀ (k0_h2 : k0_cond2 i = 1#1), 8 ∣ (k0_mult341 v2632).toNat := fun i v2632 k0_hw171 k0_h2 => k0_hw171.1 k0_h2
theorem k0_off693_inb : ∀ (i : grid0.Coords) (v2632 : BitVec 32) (k0_hw171 : k0_chk171 i v2632), ∀ (k0_h2 : k0_cond2 i = 1#1), ∀ a, (k0_off693 v2632) a + S8x128.size a ≤ S131072x128.size a := fun i v2632 k0_hw171 k0_h2 => k0_hw171.2 k0_h2

def k0_off694 (i : grid0.Coords) : Fin 3 → Nat :=
  let c0_1581 : Index := 0#32
  let c0_1582 : Index := 0#32
  let arg1 : BitVec 32 := BitVec.ofNat 32 (i 1).val
  let c2_i32_1577 : BitVec 32 := 2#32
  let v2641 : BitVec 32 := Scalar.muli arg1 c2_i32_1577
  let c0_i32_1578 : BitVec 32 := 0#32
  let v2642 : BitVec 32 := Scalar.addi v2641 c0_i32_1578
  let c256_i32_1579 : BitVec 32 := 256#32
  let v2643 : BitVec 32 := Scalar.muli v2642 c256_i32_1579
  let c170_i32 : BitVec 32 := 170#32
  let v2644 : BitVec 32 := Scalar.addi v2643 c170_i32
  let v2646 : Index := Scalar.indexCast v2644
  ![0, 0, v2646.toNat]
def k0_mult343 (v2647 : BitVec 32) : BitVec 32 :=
  v2647

def k0_mult344 (i : grid0.Coords) : BitVec 32 :=
  let arg1 : BitVec 32 := BitVec.ofNat 32 (i 1).val
  let c2_i32_1577 : BitVec 32 := 2#32
  let v2641 : BitVec 32 := Scalar.muli arg1 c2_i32_1577
  let c0_i32_1578 : BitVec 32 := 0#32
  let v2642 : BitVec 32 := Scalar.addi v2641 c0_i32_1578
  let c256_i32_1579 : BitVec 32 := 256#32
  let v2643 : BitVec 32 := Scalar.muli v2642 c256_i32_1579
  let c170_i32 : BitVec 32 := 170#32
  let v2644 : BitVec 32 := Scalar.addi v2643 c170_i32
  let c8_i32_1583 : BitVec 32 := 8#32
  let v2649 : BitVec 32 := Scalar.muli v2644 c8_i32_1583
  v2649
def k0_off695 (i : grid0.Coords) : Fin 1 → Nat :=
  let c1_i32_1580 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2645 : BitVec 32 := Scalar.subi c1_i32_1580 v9
  ![v2645.toNat]
def k0_off696 (i : grid0.Coords) : Fin 3 → Nat :=
  let c1_i32_1580 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2645 : BitVec 32 := Scalar.subi c1_i32_1580 v9
  let arg1 : BitVec 32 := BitVec.ofNat 32 (i 1).val
  let c2_i32_1577 : BitVec 32 := 2#32
  let v2641 : BitVec 32 := Scalar.muli arg1 c2_i32_1577
  let c0_i32_1578 : BitVec 32 := 0#32
  let v2642 : BitVec 32 := Scalar.addi v2641 c0_i32_1578
  let c256_i32_1579 : BitVec 32 := 256#32
  let v2643 : BitVec 32 := Scalar.muli v2642 c256_i32_1579
  let c170_i32 : BitVec 32 := 170#32
  let v2644 : BitVec 32 := Scalar.addi v2643 c170_i32
  let c8_i32_1583 : BitVec 32 := 8#32
  let v2649 : BitVec 32 := Scalar.muli v2644 c8_i32_1583
  let v2650 : BitVec 32 := v2649
  let c0_i32_1584 : BitVec 32 := 0#32
  ![v2645.toNat, v2650.toNat, 0]
def k0_off697 (v2647 : BitVec 32) : Fin 2 → Nat :=
  let v2648 : BitVec 32 := v2647
  let c0_i32_1585 : BitVec 32 := 0#32
  ![v2648.toNat, 0]

def k0_chk172 (i : grid0.Coords) (v2647 : BitVec 32) : Prop :=
  (∀ (k0_h2 : k0_cond2 i = 1#1), 8 ∣ (k0_mult343 v2647).toNat) ∧
  (∀ (k0_h2 : k0_cond2 i = 1#1), ∀ a, (k0_off697 v2647) a + S8x128.size a ≤ S131072x128.size a)
theorem k0_mult343_dvd : ∀ (i : grid0.Coords) (v2647 : BitVec 32) (k0_hw172 : k0_chk172 i v2647), ∀ (k0_h2 : k0_cond2 i = 1#1), 8 ∣ (k0_mult343 v2647).toNat := fun i v2647 k0_hw172 k0_h2 => k0_hw172.1 k0_h2
theorem k0_off697_inb : ∀ (i : grid0.Coords) (v2647 : BitVec 32) (k0_hw172 : k0_chk172 i v2647), ∀ (k0_h2 : k0_cond2 i = 1#1), ∀ a, (k0_off697 v2647) a + S8x128.size a ≤ S131072x128.size a := fun i v2647 k0_hw172 k0_h2 => k0_hw172.2 k0_h2

def k0_off698 (i : grid0.Coords) : Fin 3 → Nat :=
  let c0_1590 : Index := 0#32
  let c0_1591 : Index := 0#32
  let arg1 : BitVec 32 := BitVec.ofNat 32 (i 1).val
  let c2_i32_1586 : BitVec 32 := 2#32
  let v2656 : BitVec 32 := Scalar.muli arg1 c2_i32_1586
  let c0_i32_1587 : BitVec 32 := 0#32
  let v2657 : BitVec 32 := Scalar.addi v2656 c0_i32_1587
  let c256_i32_1588 : BitVec 32 := 256#32
  let v2658 : BitVec 32 := Scalar.muli v2657 c256_i32_1588
  let c171_i32 : BitVec 32 := 171#32
  let v2659 : BitVec 32 := Scalar.addi v2658 c171_i32
  let v2661 : Index := Scalar.indexCast v2659
  ![0, 0, v2661.toNat]
def k0_mult345 (v2662 : BitVec 32) : BitVec 32 :=
  v2662

def k0_mult346 (i : grid0.Coords) : BitVec 32 :=
  let arg1 : BitVec 32 := BitVec.ofNat 32 (i 1).val
  let c2_i32_1586 : BitVec 32 := 2#32
  let v2656 : BitVec 32 := Scalar.muli arg1 c2_i32_1586
  let c0_i32_1587 : BitVec 32 := 0#32
  let v2657 : BitVec 32 := Scalar.addi v2656 c0_i32_1587
  let c256_i32_1588 : BitVec 32 := 256#32
  let v2658 : BitVec 32 := Scalar.muli v2657 c256_i32_1588
  let c171_i32 : BitVec 32 := 171#32
  let v2659 : BitVec 32 := Scalar.addi v2658 c171_i32
  let c8_i32_1592 : BitVec 32 := 8#32
  let v2664 : BitVec 32 := Scalar.muli v2659 c8_i32_1592
  v2664
def k0_off699 (i : grid0.Coords) : Fin 1 → Nat :=
  let c1_i32_1589 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2660 : BitVec 32 := Scalar.subi c1_i32_1589 v9
  ![v2660.toNat]
def k0_off700 (i : grid0.Coords) : Fin 3 → Nat :=
  let c1_i32_1589 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2660 : BitVec 32 := Scalar.subi c1_i32_1589 v9
  let arg1 : BitVec 32 := BitVec.ofNat 32 (i 1).val
  let c2_i32_1586 : BitVec 32 := 2#32
  let v2656 : BitVec 32 := Scalar.muli arg1 c2_i32_1586
  let c0_i32_1587 : BitVec 32 := 0#32
  let v2657 : BitVec 32 := Scalar.addi v2656 c0_i32_1587
  let c256_i32_1588 : BitVec 32 := 256#32
  let v2658 : BitVec 32 := Scalar.muli v2657 c256_i32_1588
  let c171_i32 : BitVec 32 := 171#32
  let v2659 : BitVec 32 := Scalar.addi v2658 c171_i32
  let c8_i32_1592 : BitVec 32 := 8#32
  let v2664 : BitVec 32 := Scalar.muli v2659 c8_i32_1592
  let v2665 : BitVec 32 := v2664
  let c0_i32_1593 : BitVec 32 := 0#32
  ![v2660.toNat, v2665.toNat, 0]
def k0_off701 (v2662 : BitVec 32) : Fin 2 → Nat :=
  let v2663 : BitVec 32 := v2662
  let c0_i32_1594 : BitVec 32 := 0#32
  ![v2663.toNat, 0]

def k0_chk173 (i : grid0.Coords) (v2662 : BitVec 32) : Prop :=
  (∀ (k0_h2 : k0_cond2 i = 1#1), 8 ∣ (k0_mult345 v2662).toNat) ∧
  (∀ (k0_h2 : k0_cond2 i = 1#1), ∀ a, (k0_off701 v2662) a + S8x128.size a ≤ S131072x128.size a)
theorem k0_mult345_dvd : ∀ (i : grid0.Coords) (v2662 : BitVec 32) (k0_hw173 : k0_chk173 i v2662), ∀ (k0_h2 : k0_cond2 i = 1#1), 8 ∣ (k0_mult345 v2662).toNat := fun i v2662 k0_hw173 k0_h2 => k0_hw173.1 k0_h2
theorem k0_off701_inb : ∀ (i : grid0.Coords) (v2662 : BitVec 32) (k0_hw173 : k0_chk173 i v2662), ∀ (k0_h2 : k0_cond2 i = 1#1), ∀ a, (k0_off701 v2662) a + S8x128.size a ≤ S131072x128.size a := fun i v2662 k0_hw173 k0_h2 => k0_hw173.2 k0_h2

def k0_off702 (i : grid0.Coords) : Fin 3 → Nat :=
  let c0_1599 : Index := 0#32
  let c0_1600 : Index := 0#32
  let arg1 : BitVec 32 := BitVec.ofNat 32 (i 1).val
  let c2_i32_1595 : BitVec 32 := 2#32
  let v2671 : BitVec 32 := Scalar.muli arg1 c2_i32_1595
  let c0_i32_1596 : BitVec 32 := 0#32
  let v2672 : BitVec 32 := Scalar.addi v2671 c0_i32_1596
  let c256_i32_1597 : BitVec 32 := 256#32
  let v2673 : BitVec 32 := Scalar.muli v2672 c256_i32_1597
  let c172_i32 : BitVec 32 := 172#32
  let v2674 : BitVec 32 := Scalar.addi v2673 c172_i32
  let v2676 : Index := Scalar.indexCast v2674
  ![0, 0, v2676.toNat]
def k0_mult347 (v2677 : BitVec 32) : BitVec 32 :=
  v2677

def k0_mult348 (i : grid0.Coords) : BitVec 32 :=
  let arg1 : BitVec 32 := BitVec.ofNat 32 (i 1).val
  let c2_i32_1595 : BitVec 32 := 2#32
  let v2671 : BitVec 32 := Scalar.muli arg1 c2_i32_1595
  let c0_i32_1596 : BitVec 32 := 0#32
  let v2672 : BitVec 32 := Scalar.addi v2671 c0_i32_1596
  let c256_i32_1597 : BitVec 32 := 256#32
  let v2673 : BitVec 32 := Scalar.muli v2672 c256_i32_1597
  let c172_i32 : BitVec 32 := 172#32
  let v2674 : BitVec 32 := Scalar.addi v2673 c172_i32
  let c8_i32_1601 : BitVec 32 := 8#32
  let v2679 : BitVec 32 := Scalar.muli v2674 c8_i32_1601
  v2679
def k0_off703 (i : grid0.Coords) : Fin 1 → Nat :=
  let c1_i32_1598 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2675 : BitVec 32 := Scalar.subi c1_i32_1598 v9
  ![v2675.toNat]
def k0_off704 (i : grid0.Coords) : Fin 3 → Nat :=
  let c1_i32_1598 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2675 : BitVec 32 := Scalar.subi c1_i32_1598 v9
  let arg1 : BitVec 32 := BitVec.ofNat 32 (i 1).val
  let c2_i32_1595 : BitVec 32 := 2#32
  let v2671 : BitVec 32 := Scalar.muli arg1 c2_i32_1595
  let c0_i32_1596 : BitVec 32 := 0#32
  let v2672 : BitVec 32 := Scalar.addi v2671 c0_i32_1596
  let c256_i32_1597 : BitVec 32 := 256#32
  let v2673 : BitVec 32 := Scalar.muli v2672 c256_i32_1597
  let c172_i32 : BitVec 32 := 172#32
  let v2674 : BitVec 32 := Scalar.addi v2673 c172_i32
  let c8_i32_1601 : BitVec 32 := 8#32
  let v2679 : BitVec 32 := Scalar.muli v2674 c8_i32_1601
  let v2680 : BitVec 32 := v2679
  let c0_i32_1602 : BitVec 32 := 0#32
  ![v2675.toNat, v2680.toNat, 0]
def k0_off705 (v2677 : BitVec 32) : Fin 2 → Nat :=
  let v2678 : BitVec 32 := v2677
  let c0_i32_1603 : BitVec 32 := 0#32
  ![v2678.toNat, 0]

def k0_chk174 (i : grid0.Coords) (v2677 : BitVec 32) : Prop :=
  (∀ (k0_h2 : k0_cond2 i = 1#1), 8 ∣ (k0_mult347 v2677).toNat) ∧
  (∀ (k0_h2 : k0_cond2 i = 1#1), ∀ a, (k0_off705 v2677) a + S8x128.size a ≤ S131072x128.size a)
theorem k0_mult347_dvd : ∀ (i : grid0.Coords) (v2677 : BitVec 32) (k0_hw174 : k0_chk174 i v2677), ∀ (k0_h2 : k0_cond2 i = 1#1), 8 ∣ (k0_mult347 v2677).toNat := fun i v2677 k0_hw174 k0_h2 => k0_hw174.1 k0_h2
theorem k0_off705_inb : ∀ (i : grid0.Coords) (v2677 : BitVec 32) (k0_hw174 : k0_chk174 i v2677), ∀ (k0_h2 : k0_cond2 i = 1#1), ∀ a, (k0_off705 v2677) a + S8x128.size a ≤ S131072x128.size a := fun i v2677 k0_hw174 k0_h2 => k0_hw174.2 k0_h2

def k0_off706 (i : grid0.Coords) : Fin 3 → Nat :=
  let c0_1608 : Index := 0#32
  let c0_1609 : Index := 0#32
  let arg1 : BitVec 32 := BitVec.ofNat 32 (i 1).val
  let c2_i32_1604 : BitVec 32 := 2#32
  let v2686 : BitVec 32 := Scalar.muli arg1 c2_i32_1604
  let c0_i32_1605 : BitVec 32 := 0#32
  let v2687 : BitVec 32 := Scalar.addi v2686 c0_i32_1605
  let c256_i32_1606 : BitVec 32 := 256#32
  let v2688 : BitVec 32 := Scalar.muli v2687 c256_i32_1606
  let c173_i32 : BitVec 32 := 173#32
  let v2689 : BitVec 32 := Scalar.addi v2688 c173_i32
  let v2691 : Index := Scalar.indexCast v2689
  ![0, 0, v2691.toNat]
def k0_mult349 (v2692 : BitVec 32) : BitVec 32 :=
  v2692

def k0_mult350 (i : grid0.Coords) : BitVec 32 :=
  let arg1 : BitVec 32 := BitVec.ofNat 32 (i 1).val
  let c2_i32_1604 : BitVec 32 := 2#32
  let v2686 : BitVec 32 := Scalar.muli arg1 c2_i32_1604
  let c0_i32_1605 : BitVec 32 := 0#32
  let v2687 : BitVec 32 := Scalar.addi v2686 c0_i32_1605
  let c256_i32_1606 : BitVec 32 := 256#32
  let v2688 : BitVec 32 := Scalar.muli v2687 c256_i32_1606
  let c173_i32 : BitVec 32 := 173#32
  let v2689 : BitVec 32 := Scalar.addi v2688 c173_i32
  let c8_i32_1610 : BitVec 32 := 8#32
  let v2694 : BitVec 32 := Scalar.muli v2689 c8_i32_1610
  v2694
def k0_off707 (i : grid0.Coords) : Fin 1 → Nat :=
  let c1_i32_1607 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2690 : BitVec 32 := Scalar.subi c1_i32_1607 v9
  ![v2690.toNat]
def k0_off708 (i : grid0.Coords) : Fin 3 → Nat :=
  let c1_i32_1607 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2690 : BitVec 32 := Scalar.subi c1_i32_1607 v9
  let arg1 : BitVec 32 := BitVec.ofNat 32 (i 1).val
  let c2_i32_1604 : BitVec 32 := 2#32
  let v2686 : BitVec 32 := Scalar.muli arg1 c2_i32_1604
  let c0_i32_1605 : BitVec 32 := 0#32
  let v2687 : BitVec 32 := Scalar.addi v2686 c0_i32_1605
  let c256_i32_1606 : BitVec 32 := 256#32
  let v2688 : BitVec 32 := Scalar.muli v2687 c256_i32_1606
  let c173_i32 : BitVec 32 := 173#32
  let v2689 : BitVec 32 := Scalar.addi v2688 c173_i32
  let c8_i32_1610 : BitVec 32 := 8#32
  let v2694 : BitVec 32 := Scalar.muli v2689 c8_i32_1610
  let v2695 : BitVec 32 := v2694
  let c0_i32_1611 : BitVec 32 := 0#32
  ![v2690.toNat, v2695.toNat, 0]
def k0_off709 (v2692 : BitVec 32) : Fin 2 → Nat :=
  let v2693 : BitVec 32 := v2692
  let c0_i32_1612 : BitVec 32 := 0#32
  ![v2693.toNat, 0]

def k0_chk175 (i : grid0.Coords) (v2692 : BitVec 32) : Prop :=
  (∀ (k0_h2 : k0_cond2 i = 1#1), 8 ∣ (k0_mult349 v2692).toNat) ∧
  (∀ (k0_h2 : k0_cond2 i = 1#1), ∀ a, (k0_off709 v2692) a + S8x128.size a ≤ S131072x128.size a)
theorem k0_mult349_dvd : ∀ (i : grid0.Coords) (v2692 : BitVec 32) (k0_hw175 : k0_chk175 i v2692), ∀ (k0_h2 : k0_cond2 i = 1#1), 8 ∣ (k0_mult349 v2692).toNat := fun i v2692 k0_hw175 k0_h2 => k0_hw175.1 k0_h2
theorem k0_off709_inb : ∀ (i : grid0.Coords) (v2692 : BitVec 32) (k0_hw175 : k0_chk175 i v2692), ∀ (k0_h2 : k0_cond2 i = 1#1), ∀ a, (k0_off709 v2692) a + S8x128.size a ≤ S131072x128.size a := fun i v2692 k0_hw175 k0_h2 => k0_hw175.2 k0_h2

def k0_off710 (i : grid0.Coords) : Fin 3 → Nat :=
  let c0_1617 : Index := 0#32
  let c0_1618 : Index := 0#32
  let arg1 : BitVec 32 := BitVec.ofNat 32 (i 1).val
  let c2_i32_1613 : BitVec 32 := 2#32
  let v2701 : BitVec 32 := Scalar.muli arg1 c2_i32_1613
  let c0_i32_1614 : BitVec 32 := 0#32
  let v2702 : BitVec 32 := Scalar.addi v2701 c0_i32_1614
  let c256_i32_1615 : BitVec 32 := 256#32
  let v2703 : BitVec 32 := Scalar.muli v2702 c256_i32_1615
  let c174_i32 : BitVec 32 := 174#32
  let v2704 : BitVec 32 := Scalar.addi v2703 c174_i32
  let v2706 : Index := Scalar.indexCast v2704
  ![0, 0, v2706.toNat]
def k0_mult351 (v2707 : BitVec 32) : BitVec 32 :=
  v2707

def k0_mult352 (i : grid0.Coords) : BitVec 32 :=
  let arg1 : BitVec 32 := BitVec.ofNat 32 (i 1).val
  let c2_i32_1613 : BitVec 32 := 2#32
  let v2701 : BitVec 32 := Scalar.muli arg1 c2_i32_1613
  let c0_i32_1614 : BitVec 32 := 0#32
  let v2702 : BitVec 32 := Scalar.addi v2701 c0_i32_1614
  let c256_i32_1615 : BitVec 32 := 256#32
  let v2703 : BitVec 32 := Scalar.muli v2702 c256_i32_1615
  let c174_i32 : BitVec 32 := 174#32
  let v2704 : BitVec 32 := Scalar.addi v2703 c174_i32
  let c8_i32_1619 : BitVec 32 := 8#32
  let v2709 : BitVec 32 := Scalar.muli v2704 c8_i32_1619
  v2709
def k0_off711 (i : grid0.Coords) : Fin 1 → Nat :=
  let c1_i32_1616 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2705 : BitVec 32 := Scalar.subi c1_i32_1616 v9
  ![v2705.toNat]
def k0_off712 (i : grid0.Coords) : Fin 3 → Nat :=
  let c1_i32_1616 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2705 : BitVec 32 := Scalar.subi c1_i32_1616 v9
  let arg1 : BitVec 32 := BitVec.ofNat 32 (i 1).val
  let c2_i32_1613 : BitVec 32 := 2#32
  let v2701 : BitVec 32 := Scalar.muli arg1 c2_i32_1613
  let c0_i32_1614 : BitVec 32 := 0#32
  let v2702 : BitVec 32 := Scalar.addi v2701 c0_i32_1614
  let c256_i32_1615 : BitVec 32 := 256#32
  let v2703 : BitVec 32 := Scalar.muli v2702 c256_i32_1615
  let c174_i32 : BitVec 32 := 174#32
  let v2704 : BitVec 32 := Scalar.addi v2703 c174_i32
  let c8_i32_1619 : BitVec 32 := 8#32
  let v2709 : BitVec 32 := Scalar.muli v2704 c8_i32_1619
  let v2710 : BitVec 32 := v2709
  let c0_i32_1620 : BitVec 32 := 0#32
  ![v2705.toNat, v2710.toNat, 0]
def k0_off713 (v2707 : BitVec 32) : Fin 2 → Nat :=
  let v2708 : BitVec 32 := v2707
  let c0_i32_1621 : BitVec 32 := 0#32
  ![v2708.toNat, 0]

def k0_chk176 (i : grid0.Coords) (v2707 : BitVec 32) : Prop :=
  (∀ (k0_h2 : k0_cond2 i = 1#1), 8 ∣ (k0_mult351 v2707).toNat) ∧
  (∀ (k0_h2 : k0_cond2 i = 1#1), ∀ a, (k0_off713 v2707) a + S8x128.size a ≤ S131072x128.size a)
theorem k0_mult351_dvd : ∀ (i : grid0.Coords) (v2707 : BitVec 32) (k0_hw176 : k0_chk176 i v2707), ∀ (k0_h2 : k0_cond2 i = 1#1), 8 ∣ (k0_mult351 v2707).toNat := fun i v2707 k0_hw176 k0_h2 => k0_hw176.1 k0_h2
theorem k0_off713_inb : ∀ (i : grid0.Coords) (v2707 : BitVec 32) (k0_hw176 : k0_chk176 i v2707), ∀ (k0_h2 : k0_cond2 i = 1#1), ∀ a, (k0_off713 v2707) a + S8x128.size a ≤ S131072x128.size a := fun i v2707 k0_hw176 k0_h2 => k0_hw176.2 k0_h2

def k0_off714 (i : grid0.Coords) : Fin 3 → Nat :=
  let c0_1626 : Index := 0#32
  let c0_1627 : Index := 0#32
  let arg1 : BitVec 32 := BitVec.ofNat 32 (i 1).val
  let c2_i32_1622 : BitVec 32 := 2#32
  let v2716 : BitVec 32 := Scalar.muli arg1 c2_i32_1622
  let c0_i32_1623 : BitVec 32 := 0#32
  let v2717 : BitVec 32 := Scalar.addi v2716 c0_i32_1623
  let c256_i32_1624 : BitVec 32 := 256#32
  let v2718 : BitVec 32 := Scalar.muli v2717 c256_i32_1624
  let c175_i32 : BitVec 32 := 175#32
  let v2719 : BitVec 32 := Scalar.addi v2718 c175_i32
  let v2721 : Index := Scalar.indexCast v2719
  ![0, 0, v2721.toNat]
def k0_mult353 (v2722 : BitVec 32) : BitVec 32 :=
  v2722

def k0_mult354 (i : grid0.Coords) : BitVec 32 :=
  let arg1 : BitVec 32 := BitVec.ofNat 32 (i 1).val
  let c2_i32_1622 : BitVec 32 := 2#32
  let v2716 : BitVec 32 := Scalar.muli arg1 c2_i32_1622
  let c0_i32_1623 : BitVec 32 := 0#32
  let v2717 : BitVec 32 := Scalar.addi v2716 c0_i32_1623
  let c256_i32_1624 : BitVec 32 := 256#32
  let v2718 : BitVec 32 := Scalar.muli v2717 c256_i32_1624
  let c175_i32 : BitVec 32 := 175#32
  let v2719 : BitVec 32 := Scalar.addi v2718 c175_i32
  let c8_i32_1628 : BitVec 32 := 8#32
  let v2724 : BitVec 32 := Scalar.muli v2719 c8_i32_1628
  v2724
def k0_off715 (i : grid0.Coords) : Fin 1 → Nat :=
  let c1_i32_1625 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2720 : BitVec 32 := Scalar.subi c1_i32_1625 v9
  ![v2720.toNat]
def k0_off716 (i : grid0.Coords) : Fin 3 → Nat :=
  let c1_i32_1625 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2720 : BitVec 32 := Scalar.subi c1_i32_1625 v9
  let arg1 : BitVec 32 := BitVec.ofNat 32 (i 1).val
  let c2_i32_1622 : BitVec 32 := 2#32
  let v2716 : BitVec 32 := Scalar.muli arg1 c2_i32_1622
  let c0_i32_1623 : BitVec 32 := 0#32
  let v2717 : BitVec 32 := Scalar.addi v2716 c0_i32_1623
  let c256_i32_1624 : BitVec 32 := 256#32
  let v2718 : BitVec 32 := Scalar.muli v2717 c256_i32_1624
  let c175_i32 : BitVec 32 := 175#32
  let v2719 : BitVec 32 := Scalar.addi v2718 c175_i32
  let c8_i32_1628 : BitVec 32 := 8#32
  let v2724 : BitVec 32 := Scalar.muli v2719 c8_i32_1628
  let v2725 : BitVec 32 := v2724
  let c0_i32_1629 : BitVec 32 := 0#32
  ![v2720.toNat, v2725.toNat, 0]
def k0_off717 (v2722 : BitVec 32) : Fin 2 → Nat :=
  let v2723 : BitVec 32 := v2722
  let c0_i32_1630 : BitVec 32 := 0#32
  ![v2723.toNat, 0]

def k0_chk177 (i : grid0.Coords) (v2722 : BitVec 32) : Prop :=
  (∀ (k0_h2 : k0_cond2 i = 1#1), 8 ∣ (k0_mult353 v2722).toNat) ∧
  (∀ (k0_h2 : k0_cond2 i = 1#1), ∀ a, (k0_off717 v2722) a + S8x128.size a ≤ S131072x128.size a)
theorem k0_mult353_dvd : ∀ (i : grid0.Coords) (v2722 : BitVec 32) (k0_hw177 : k0_chk177 i v2722), ∀ (k0_h2 : k0_cond2 i = 1#1), 8 ∣ (k0_mult353 v2722).toNat := fun i v2722 k0_hw177 k0_h2 => k0_hw177.1 k0_h2
theorem k0_off717_inb : ∀ (i : grid0.Coords) (v2722 : BitVec 32) (k0_hw177 : k0_chk177 i v2722), ∀ (k0_h2 : k0_cond2 i = 1#1), ∀ a, (k0_off717 v2722) a + S8x128.size a ≤ S131072x128.size a := fun i v2722 k0_hw177 k0_h2 => k0_hw177.2 k0_h2

def k0_off718 (i : grid0.Coords) : Fin 3 → Nat :=
  let c0_1635 : Index := 0#32
  let c0_1636 : Index := 0#32
  let arg1 : BitVec 32 := BitVec.ofNat 32 (i 1).val
  let c2_i32_1631 : BitVec 32 := 2#32
  let v2731 : BitVec 32 := Scalar.muli arg1 c2_i32_1631
  let c0_i32_1632 : BitVec 32 := 0#32
  let v2732 : BitVec 32 := Scalar.addi v2731 c0_i32_1632
  let c256_i32_1633 : BitVec 32 := 256#32
  let v2733 : BitVec 32 := Scalar.muli v2732 c256_i32_1633
  let c176_i32 : BitVec 32 := 176#32
  let v2734 : BitVec 32 := Scalar.addi v2733 c176_i32
  let v2736 : Index := Scalar.indexCast v2734
  ![0, 0, v2736.toNat]
def k0_mult355 (v2737 : BitVec 32) : BitVec 32 :=
  v2737

def k0_mult356 (i : grid0.Coords) : BitVec 32 :=
  let arg1 : BitVec 32 := BitVec.ofNat 32 (i 1).val
  let c2_i32_1631 : BitVec 32 := 2#32
  let v2731 : BitVec 32 := Scalar.muli arg1 c2_i32_1631
  let c0_i32_1632 : BitVec 32 := 0#32
  let v2732 : BitVec 32 := Scalar.addi v2731 c0_i32_1632
  let c256_i32_1633 : BitVec 32 := 256#32
  let v2733 : BitVec 32 := Scalar.muli v2732 c256_i32_1633
  let c176_i32 : BitVec 32 := 176#32
  let v2734 : BitVec 32 := Scalar.addi v2733 c176_i32
  let c8_i32_1637 : BitVec 32 := 8#32
  let v2739 : BitVec 32 := Scalar.muli v2734 c8_i32_1637
  v2739
def k0_off719 (i : grid0.Coords) : Fin 1 → Nat :=
  let c1_i32_1634 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2735 : BitVec 32 := Scalar.subi c1_i32_1634 v9
  ![v2735.toNat]
def k0_off720 (i : grid0.Coords) : Fin 3 → Nat :=
  let c1_i32_1634 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2735 : BitVec 32 := Scalar.subi c1_i32_1634 v9
  let arg1 : BitVec 32 := BitVec.ofNat 32 (i 1).val
  let c2_i32_1631 : BitVec 32 := 2#32
  let v2731 : BitVec 32 := Scalar.muli arg1 c2_i32_1631
  let c0_i32_1632 : BitVec 32 := 0#32
  let v2732 : BitVec 32 := Scalar.addi v2731 c0_i32_1632
  let c256_i32_1633 : BitVec 32 := 256#32
  let v2733 : BitVec 32 := Scalar.muli v2732 c256_i32_1633
  let c176_i32 : BitVec 32 := 176#32
  let v2734 : BitVec 32 := Scalar.addi v2733 c176_i32
  let c8_i32_1637 : BitVec 32 := 8#32
  let v2739 : BitVec 32 := Scalar.muli v2734 c8_i32_1637
  let v2740 : BitVec 32 := v2739
  let c0_i32_1638 : BitVec 32 := 0#32
  ![v2735.toNat, v2740.toNat, 0]
def k0_off721 (v2737 : BitVec 32) : Fin 2 → Nat :=
  let v2738 : BitVec 32 := v2737
  let c0_i32_1639 : BitVec 32 := 0#32
  ![v2738.toNat, 0]

def k0_chk178 (i : grid0.Coords) (v2737 : BitVec 32) : Prop :=
  (∀ (k0_h2 : k0_cond2 i = 1#1), 8 ∣ (k0_mult355 v2737).toNat) ∧
  (∀ (k0_h2 : k0_cond2 i = 1#1), ∀ a, (k0_off721 v2737) a + S8x128.size a ≤ S131072x128.size a)
theorem k0_mult355_dvd : ∀ (i : grid0.Coords) (v2737 : BitVec 32) (k0_hw178 : k0_chk178 i v2737), ∀ (k0_h2 : k0_cond2 i = 1#1), 8 ∣ (k0_mult355 v2737).toNat := fun i v2737 k0_hw178 k0_h2 => k0_hw178.1 k0_h2
theorem k0_off721_inb : ∀ (i : grid0.Coords) (v2737 : BitVec 32) (k0_hw178 : k0_chk178 i v2737), ∀ (k0_h2 : k0_cond2 i = 1#1), ∀ a, (k0_off721 v2737) a + S8x128.size a ≤ S131072x128.size a := fun i v2737 k0_hw178 k0_h2 => k0_hw178.2 k0_h2

def k0_off722 (i : grid0.Coords) : Fin 3 → Nat :=
  let c0_1644 : Index := 0#32
  let c0_1645 : Index := 0#32
  let arg1 : BitVec 32 := BitVec.ofNat 32 (i 1).val
  let c2_i32_1640 : BitVec 32 := 2#32
  let v2746 : BitVec 32 := Scalar.muli arg1 c2_i32_1640
  let c0_i32_1641 : BitVec 32 := 0#32
  let v2747 : BitVec 32 := Scalar.addi v2746 c0_i32_1641
  let c256_i32_1642 : BitVec 32 := 256#32
  let v2748 : BitVec 32 := Scalar.muli v2747 c256_i32_1642
  let c177_i32 : BitVec 32 := 177#32
  let v2749 : BitVec 32 := Scalar.addi v2748 c177_i32
  let v2751 : Index := Scalar.indexCast v2749
  ![0, 0, v2751.toNat]
def k0_mult357 (v2752 : BitVec 32) : BitVec 32 :=
  v2752

def k0_mult358 (i : grid0.Coords) : BitVec 32 :=
  let arg1 : BitVec 32 := BitVec.ofNat 32 (i 1).val
  let c2_i32_1640 : BitVec 32 := 2#32
  let v2746 : BitVec 32 := Scalar.muli arg1 c2_i32_1640
  let c0_i32_1641 : BitVec 32 := 0#32
  let v2747 : BitVec 32 := Scalar.addi v2746 c0_i32_1641
  let c256_i32_1642 : BitVec 32 := 256#32
  let v2748 : BitVec 32 := Scalar.muli v2747 c256_i32_1642
  let c177_i32 : BitVec 32 := 177#32
  let v2749 : BitVec 32 := Scalar.addi v2748 c177_i32
  let c8_i32_1646 : BitVec 32 := 8#32
  let v2754 : BitVec 32 := Scalar.muli v2749 c8_i32_1646
  v2754
def k0_off723 (i : grid0.Coords) : Fin 1 → Nat :=
  let c1_i32_1643 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2750 : BitVec 32 := Scalar.subi c1_i32_1643 v9
  ![v2750.toNat]
def k0_off724 (i : grid0.Coords) : Fin 3 → Nat :=
  let c1_i32_1643 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2750 : BitVec 32 := Scalar.subi c1_i32_1643 v9
  let arg1 : BitVec 32 := BitVec.ofNat 32 (i 1).val
  let c2_i32_1640 : BitVec 32 := 2#32
  let v2746 : BitVec 32 := Scalar.muli arg1 c2_i32_1640
  let c0_i32_1641 : BitVec 32 := 0#32
  let v2747 : BitVec 32 := Scalar.addi v2746 c0_i32_1641
  let c256_i32_1642 : BitVec 32 := 256#32
  let v2748 : BitVec 32 := Scalar.muli v2747 c256_i32_1642
  let c177_i32 : BitVec 32 := 177#32
  let v2749 : BitVec 32 := Scalar.addi v2748 c177_i32
  let c8_i32_1646 : BitVec 32 := 8#32
  let v2754 : BitVec 32 := Scalar.muli v2749 c8_i32_1646
  let v2755 : BitVec 32 := v2754
  let c0_i32_1647 : BitVec 32 := 0#32
  ![v2750.toNat, v2755.toNat, 0]
def k0_off725 (v2752 : BitVec 32) : Fin 2 → Nat :=
  let v2753 : BitVec 32 := v2752
  let c0_i32_1648 : BitVec 32 := 0#32
  ![v2753.toNat, 0]

def k0_chk179 (i : grid0.Coords) (v2752 : BitVec 32) : Prop :=
  (∀ (k0_h2 : k0_cond2 i = 1#1), 8 ∣ (k0_mult357 v2752).toNat) ∧
  (∀ (k0_h2 : k0_cond2 i = 1#1), ∀ a, (k0_off725 v2752) a + S8x128.size a ≤ S131072x128.size a)
theorem k0_mult357_dvd : ∀ (i : grid0.Coords) (v2752 : BitVec 32) (k0_hw179 : k0_chk179 i v2752), ∀ (k0_h2 : k0_cond2 i = 1#1), 8 ∣ (k0_mult357 v2752).toNat := fun i v2752 k0_hw179 k0_h2 => k0_hw179.1 k0_h2
theorem k0_off725_inb : ∀ (i : grid0.Coords) (v2752 : BitVec 32) (k0_hw179 : k0_chk179 i v2752), ∀ (k0_h2 : k0_cond2 i = 1#1), ∀ a, (k0_off725 v2752) a + S8x128.size a ≤ S131072x128.size a := fun i v2752 k0_hw179 k0_h2 => k0_hw179.2 k0_h2

def k0_off726 (i : grid0.Coords) : Fin 3 → Nat :=
  let c0_1653 : Index := 0#32
  let c0_1654 : Index := 0#32
  let arg1 : BitVec 32 := BitVec.ofNat 32 (i 1).val
  let c2_i32_1649 : BitVec 32 := 2#32
  let v2761 : BitVec 32 := Scalar.muli arg1 c2_i32_1649
  let c0_i32_1650 : BitVec 32 := 0#32
  let v2762 : BitVec 32 := Scalar.addi v2761 c0_i32_1650
  let c256_i32_1651 : BitVec 32 := 256#32
  let v2763 : BitVec 32 := Scalar.muli v2762 c256_i32_1651
  let c178_i32 : BitVec 32 := 178#32
  let v2764 : BitVec 32 := Scalar.addi v2763 c178_i32
  let v2766 : Index := Scalar.indexCast v2764
  ![0, 0, v2766.toNat]
def k0_mult359 (v2767 : BitVec 32) : BitVec 32 :=
  v2767

def k0_mult360 (i : grid0.Coords) : BitVec 32 :=
  let arg1 : BitVec 32 := BitVec.ofNat 32 (i 1).val
  let c2_i32_1649 : BitVec 32 := 2#32
  let v2761 : BitVec 32 := Scalar.muli arg1 c2_i32_1649
  let c0_i32_1650 : BitVec 32 := 0#32
  let v2762 : BitVec 32 := Scalar.addi v2761 c0_i32_1650
  let c256_i32_1651 : BitVec 32 := 256#32
  let v2763 : BitVec 32 := Scalar.muli v2762 c256_i32_1651
  let c178_i32 : BitVec 32 := 178#32
  let v2764 : BitVec 32 := Scalar.addi v2763 c178_i32
  let c8_i32_1655 : BitVec 32 := 8#32
  let v2769 : BitVec 32 := Scalar.muli v2764 c8_i32_1655
  v2769
def k0_off727 (i : grid0.Coords) : Fin 1 → Nat :=
  let c1_i32_1652 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2765 : BitVec 32 := Scalar.subi c1_i32_1652 v9
  ![v2765.toNat]
def k0_off728 (i : grid0.Coords) : Fin 3 → Nat :=
  let c1_i32_1652 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2765 : BitVec 32 := Scalar.subi c1_i32_1652 v9
  let arg1 : BitVec 32 := BitVec.ofNat 32 (i 1).val
  let c2_i32_1649 : BitVec 32 := 2#32
  let v2761 : BitVec 32 := Scalar.muli arg1 c2_i32_1649
  let c0_i32_1650 : BitVec 32 := 0#32
  let v2762 : BitVec 32 := Scalar.addi v2761 c0_i32_1650
  let c256_i32_1651 : BitVec 32 := 256#32
  let v2763 : BitVec 32 := Scalar.muli v2762 c256_i32_1651
  let c178_i32 : BitVec 32 := 178#32
  let v2764 : BitVec 32 := Scalar.addi v2763 c178_i32
  let c8_i32_1655 : BitVec 32 := 8#32
  let v2769 : BitVec 32 := Scalar.muli v2764 c8_i32_1655
  let v2770 : BitVec 32 := v2769
  let c0_i32_1656 : BitVec 32 := 0#32
  ![v2765.toNat, v2770.toNat, 0]
def k0_off729 (v2767 : BitVec 32) : Fin 2 → Nat :=
  let v2768 : BitVec 32 := v2767
  let c0_i32_1657 : BitVec 32 := 0#32
  ![v2768.toNat, 0]

def k0_chk180 (i : grid0.Coords) (v2767 : BitVec 32) : Prop :=
  (∀ (k0_h2 : k0_cond2 i = 1#1), 8 ∣ (k0_mult359 v2767).toNat) ∧
  (∀ (k0_h2 : k0_cond2 i = 1#1), ∀ a, (k0_off729 v2767) a + S8x128.size a ≤ S131072x128.size a)
theorem k0_mult359_dvd : ∀ (i : grid0.Coords) (v2767 : BitVec 32) (k0_hw180 : k0_chk180 i v2767), ∀ (k0_h2 : k0_cond2 i = 1#1), 8 ∣ (k0_mult359 v2767).toNat := fun i v2767 k0_hw180 k0_h2 => k0_hw180.1 k0_h2
theorem k0_off729_inb : ∀ (i : grid0.Coords) (v2767 : BitVec 32) (k0_hw180 : k0_chk180 i v2767), ∀ (k0_h2 : k0_cond2 i = 1#1), ∀ a, (k0_off729 v2767) a + S8x128.size a ≤ S131072x128.size a := fun i v2767 k0_hw180 k0_h2 => k0_hw180.2 k0_h2

def k0_off730 (i : grid0.Coords) : Fin 3 → Nat :=
  let c0_1662 : Index := 0#32
  let c0_1663 : Index := 0#32
  let arg1 : BitVec 32 := BitVec.ofNat 32 (i 1).val
  let c2_i32_1658 : BitVec 32 := 2#32
  let v2776 : BitVec 32 := Scalar.muli arg1 c2_i32_1658
  let c0_i32_1659 : BitVec 32 := 0#32
  let v2777 : BitVec 32 := Scalar.addi v2776 c0_i32_1659
  let c256_i32_1660 : BitVec 32 := 256#32
  let v2778 : BitVec 32 := Scalar.muli v2777 c256_i32_1660
  let c179_i32 : BitVec 32 := 179#32
  let v2779 : BitVec 32 := Scalar.addi v2778 c179_i32
  let v2781 : Index := Scalar.indexCast v2779
  ![0, 0, v2781.toNat]
def k0_mult361 (v2782 : BitVec 32) : BitVec 32 :=
  v2782

def k0_mult362 (i : grid0.Coords) : BitVec 32 :=
  let arg1 : BitVec 32 := BitVec.ofNat 32 (i 1).val
  let c2_i32_1658 : BitVec 32 := 2#32
  let v2776 : BitVec 32 := Scalar.muli arg1 c2_i32_1658
  let c0_i32_1659 : BitVec 32 := 0#32
  let v2777 : BitVec 32 := Scalar.addi v2776 c0_i32_1659
  let c256_i32_1660 : BitVec 32 := 256#32
  let v2778 : BitVec 32 := Scalar.muli v2777 c256_i32_1660
  let c179_i32 : BitVec 32 := 179#32
  let v2779 : BitVec 32 := Scalar.addi v2778 c179_i32
  let c8_i32_1664 : BitVec 32 := 8#32
  let v2784 : BitVec 32 := Scalar.muli v2779 c8_i32_1664
  v2784
def k0_off731 (i : grid0.Coords) : Fin 1 → Nat :=
  let c1_i32_1661 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2780 : BitVec 32 := Scalar.subi c1_i32_1661 v9
  ![v2780.toNat]
def k0_off732 (i : grid0.Coords) : Fin 3 → Nat :=
  let c1_i32_1661 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2780 : BitVec 32 := Scalar.subi c1_i32_1661 v9
  let arg1 : BitVec 32 := BitVec.ofNat 32 (i 1).val
  let c2_i32_1658 : BitVec 32 := 2#32
  let v2776 : BitVec 32 := Scalar.muli arg1 c2_i32_1658
  let c0_i32_1659 : BitVec 32 := 0#32
  let v2777 : BitVec 32 := Scalar.addi v2776 c0_i32_1659
  let c256_i32_1660 : BitVec 32 := 256#32
  let v2778 : BitVec 32 := Scalar.muli v2777 c256_i32_1660
  let c179_i32 : BitVec 32 := 179#32
  let v2779 : BitVec 32 := Scalar.addi v2778 c179_i32
  let c8_i32_1664 : BitVec 32 := 8#32
  let v2784 : BitVec 32 := Scalar.muli v2779 c8_i32_1664
  let v2785 : BitVec 32 := v2784
  let c0_i32_1665 : BitVec 32 := 0#32
  ![v2780.toNat, v2785.toNat, 0]
def k0_off733 (v2782 : BitVec 32) : Fin 2 → Nat :=
  let v2783 : BitVec 32 := v2782
  let c0_i32_1666 : BitVec 32 := 0#32
  ![v2783.toNat, 0]

def k0_chk181 (i : grid0.Coords) (v2782 : BitVec 32) : Prop :=
  (∀ (k0_h2 : k0_cond2 i = 1#1), 8 ∣ (k0_mult361 v2782).toNat) ∧
  (∀ (k0_h2 : k0_cond2 i = 1#1), ∀ a, (k0_off733 v2782) a + S8x128.size a ≤ S131072x128.size a)
theorem k0_mult361_dvd : ∀ (i : grid0.Coords) (v2782 : BitVec 32) (k0_hw181 : k0_chk181 i v2782), ∀ (k0_h2 : k0_cond2 i = 1#1), 8 ∣ (k0_mult361 v2782).toNat := fun i v2782 k0_hw181 k0_h2 => k0_hw181.1 k0_h2
theorem k0_off733_inb : ∀ (i : grid0.Coords) (v2782 : BitVec 32) (k0_hw181 : k0_chk181 i v2782), ∀ (k0_h2 : k0_cond2 i = 1#1), ∀ a, (k0_off733 v2782) a + S8x128.size a ≤ S131072x128.size a := fun i v2782 k0_hw181 k0_h2 => k0_hw181.2 k0_h2

def k0_off734 (i : grid0.Coords) : Fin 3 → Nat :=
  let c0_1671 : Index := 0#32
  let c0_1672 : Index := 0#32
  let arg1 : BitVec 32 := BitVec.ofNat 32 (i 1).val
  let c2_i32_1667 : BitVec 32 := 2#32
  let v2791 : BitVec 32 := Scalar.muli arg1 c2_i32_1667
  let c0_i32_1668 : BitVec 32 := 0#32
  let v2792 : BitVec 32 := Scalar.addi v2791 c0_i32_1668
  let c256_i32_1669 : BitVec 32 := 256#32
  let v2793 : BitVec 32 := Scalar.muli v2792 c256_i32_1669
  let c180_i32 : BitVec 32 := 180#32
  let v2794 : BitVec 32 := Scalar.addi v2793 c180_i32
  let v2796 : Index := Scalar.indexCast v2794
  ![0, 0, v2796.toNat]
def k0_mult363 (v2797 : BitVec 32) : BitVec 32 :=
  v2797

def k0_mult364 (i : grid0.Coords) : BitVec 32 :=
  let arg1 : BitVec 32 := BitVec.ofNat 32 (i 1).val
  let c2_i32_1667 : BitVec 32 := 2#32
  let v2791 : BitVec 32 := Scalar.muli arg1 c2_i32_1667
  let c0_i32_1668 : BitVec 32 := 0#32
  let v2792 : BitVec 32 := Scalar.addi v2791 c0_i32_1668
  let c256_i32_1669 : BitVec 32 := 256#32
  let v2793 : BitVec 32 := Scalar.muli v2792 c256_i32_1669
  let c180_i32 : BitVec 32 := 180#32
  let v2794 : BitVec 32 := Scalar.addi v2793 c180_i32
  let c8_i32_1673 : BitVec 32 := 8#32
  let v2799 : BitVec 32 := Scalar.muli v2794 c8_i32_1673
  v2799
def k0_off735 (i : grid0.Coords) : Fin 1 → Nat :=
  let c1_i32_1670 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2795 : BitVec 32 := Scalar.subi c1_i32_1670 v9
  ![v2795.toNat]
def k0_off736 (i : grid0.Coords) : Fin 3 → Nat :=
  let c1_i32_1670 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2795 : BitVec 32 := Scalar.subi c1_i32_1670 v9
  let arg1 : BitVec 32 := BitVec.ofNat 32 (i 1).val
  let c2_i32_1667 : BitVec 32 := 2#32
  let v2791 : BitVec 32 := Scalar.muli arg1 c2_i32_1667
  let c0_i32_1668 : BitVec 32 := 0#32
  let v2792 : BitVec 32 := Scalar.addi v2791 c0_i32_1668
  let c256_i32_1669 : BitVec 32 := 256#32
  let v2793 : BitVec 32 := Scalar.muli v2792 c256_i32_1669
  let c180_i32 : BitVec 32 := 180#32
  let v2794 : BitVec 32 := Scalar.addi v2793 c180_i32
  let c8_i32_1673 : BitVec 32 := 8#32
  let v2799 : BitVec 32 := Scalar.muli v2794 c8_i32_1673
  let v2800 : BitVec 32 := v2799
  let c0_i32_1674 : BitVec 32 := 0#32
  ![v2795.toNat, v2800.toNat, 0]
def k0_off737 (v2797 : BitVec 32) : Fin 2 → Nat :=
  let v2798 : BitVec 32 := v2797
  let c0_i32_1675 : BitVec 32 := 0#32
  ![v2798.toNat, 0]

def k0_chk182 (i : grid0.Coords) (v2797 : BitVec 32) : Prop :=
  (∀ (k0_h2 : k0_cond2 i = 1#1), 8 ∣ (k0_mult363 v2797).toNat) ∧
  (∀ (k0_h2 : k0_cond2 i = 1#1), ∀ a, (k0_off737 v2797) a + S8x128.size a ≤ S131072x128.size a)
theorem k0_mult363_dvd : ∀ (i : grid0.Coords) (v2797 : BitVec 32) (k0_hw182 : k0_chk182 i v2797), ∀ (k0_h2 : k0_cond2 i = 1#1), 8 ∣ (k0_mult363 v2797).toNat := fun i v2797 k0_hw182 k0_h2 => k0_hw182.1 k0_h2
theorem k0_off737_inb : ∀ (i : grid0.Coords) (v2797 : BitVec 32) (k0_hw182 : k0_chk182 i v2797), ∀ (k0_h2 : k0_cond2 i = 1#1), ∀ a, (k0_off737 v2797) a + S8x128.size a ≤ S131072x128.size a := fun i v2797 k0_hw182 k0_h2 => k0_hw182.2 k0_h2

def k0_off738 (i : grid0.Coords) : Fin 3 → Nat :=
  let c0_1680 : Index := 0#32
  let c0_1681 : Index := 0#32
  let arg1 : BitVec 32 := BitVec.ofNat 32 (i 1).val
  let c2_i32_1676 : BitVec 32 := 2#32
  let v2806 : BitVec 32 := Scalar.muli arg1 c2_i32_1676
  let c0_i32_1677 : BitVec 32 := 0#32
  let v2807 : BitVec 32 := Scalar.addi v2806 c0_i32_1677
  let c256_i32_1678 : BitVec 32 := 256#32
  let v2808 : BitVec 32 := Scalar.muli v2807 c256_i32_1678
  let c181_i32 : BitVec 32 := 181#32
  let v2809 : BitVec 32 := Scalar.addi v2808 c181_i32
  let v2811 : Index := Scalar.indexCast v2809
  ![0, 0, v2811.toNat]
def k0_mult365 (v2812 : BitVec 32) : BitVec 32 :=
  v2812

def k0_mult366 (i : grid0.Coords) : BitVec 32 :=
  let arg1 : BitVec 32 := BitVec.ofNat 32 (i 1).val
  let c2_i32_1676 : BitVec 32 := 2#32
  let v2806 : BitVec 32 := Scalar.muli arg1 c2_i32_1676
  let c0_i32_1677 : BitVec 32 := 0#32
  let v2807 : BitVec 32 := Scalar.addi v2806 c0_i32_1677
  let c256_i32_1678 : BitVec 32 := 256#32
  let v2808 : BitVec 32 := Scalar.muli v2807 c256_i32_1678
  let c181_i32 : BitVec 32 := 181#32
  let v2809 : BitVec 32 := Scalar.addi v2808 c181_i32
  let c8_i32_1682 : BitVec 32 := 8#32
  let v2814 : BitVec 32 := Scalar.muli v2809 c8_i32_1682
  v2814
def k0_off739 (i : grid0.Coords) : Fin 1 → Nat :=
  let c1_i32_1679 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2810 : BitVec 32 := Scalar.subi c1_i32_1679 v9
  ![v2810.toNat]
def k0_off740 (i : grid0.Coords) : Fin 3 → Nat :=
  let c1_i32_1679 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2810 : BitVec 32 := Scalar.subi c1_i32_1679 v9
  let arg1 : BitVec 32 := BitVec.ofNat 32 (i 1).val
  let c2_i32_1676 : BitVec 32 := 2#32
  let v2806 : BitVec 32 := Scalar.muli arg1 c2_i32_1676
  let c0_i32_1677 : BitVec 32 := 0#32
  let v2807 : BitVec 32 := Scalar.addi v2806 c0_i32_1677
  let c256_i32_1678 : BitVec 32 := 256#32
  let v2808 : BitVec 32 := Scalar.muli v2807 c256_i32_1678
  let c181_i32 : BitVec 32 := 181#32
  let v2809 : BitVec 32 := Scalar.addi v2808 c181_i32
  let c8_i32_1682 : BitVec 32 := 8#32
  let v2814 : BitVec 32 := Scalar.muli v2809 c8_i32_1682
  let v2815 : BitVec 32 := v2814
  let c0_i32_1683 : BitVec 32 := 0#32
  ![v2810.toNat, v2815.toNat, 0]
def k0_off741 (v2812 : BitVec 32) : Fin 2 → Nat :=
  let v2813 : BitVec 32 := v2812
  let c0_i32_1684 : BitVec 32 := 0#32
  ![v2813.toNat, 0]

def k0_chk183 (i : grid0.Coords) (v2812 : BitVec 32) : Prop :=
  (∀ (k0_h2 : k0_cond2 i = 1#1), 8 ∣ (k0_mult365 v2812).toNat) ∧
  (∀ (k0_h2 : k0_cond2 i = 1#1), ∀ a, (k0_off741 v2812) a + S8x128.size a ≤ S131072x128.size a)
theorem k0_mult365_dvd : ∀ (i : grid0.Coords) (v2812 : BitVec 32) (k0_hw183 : k0_chk183 i v2812), ∀ (k0_h2 : k0_cond2 i = 1#1), 8 ∣ (k0_mult365 v2812).toNat := fun i v2812 k0_hw183 k0_h2 => k0_hw183.1 k0_h2
theorem k0_off741_inb : ∀ (i : grid0.Coords) (v2812 : BitVec 32) (k0_hw183 : k0_chk183 i v2812), ∀ (k0_h2 : k0_cond2 i = 1#1), ∀ a, (k0_off741 v2812) a + S8x128.size a ≤ S131072x128.size a := fun i v2812 k0_hw183 k0_h2 => k0_hw183.2 k0_h2

def k0_off742 (i : grid0.Coords) : Fin 3 → Nat :=
  let c0_1689 : Index := 0#32
  let c0_1690 : Index := 0#32
  let arg1 : BitVec 32 := BitVec.ofNat 32 (i 1).val
  let c2_i32_1685 : BitVec 32 := 2#32
  let v2821 : BitVec 32 := Scalar.muli arg1 c2_i32_1685
  let c0_i32_1686 : BitVec 32 := 0#32
  let v2822 : BitVec 32 := Scalar.addi v2821 c0_i32_1686
  let c256_i32_1687 : BitVec 32 := 256#32
  let v2823 : BitVec 32 := Scalar.muli v2822 c256_i32_1687
  let c182_i32 : BitVec 32 := 182#32
  let v2824 : BitVec 32 := Scalar.addi v2823 c182_i32
  let v2826 : Index := Scalar.indexCast v2824
  ![0, 0, v2826.toNat]
def k0_mult367 (v2827 : BitVec 32) : BitVec 32 :=
  v2827

def k0_mult368 (i : grid0.Coords) : BitVec 32 :=
  let arg1 : BitVec 32 := BitVec.ofNat 32 (i 1).val
  let c2_i32_1685 : BitVec 32 := 2#32
  let v2821 : BitVec 32 := Scalar.muli arg1 c2_i32_1685
  let c0_i32_1686 : BitVec 32 := 0#32
  let v2822 : BitVec 32 := Scalar.addi v2821 c0_i32_1686
  let c256_i32_1687 : BitVec 32 := 256#32
  let v2823 : BitVec 32 := Scalar.muli v2822 c256_i32_1687
  let c182_i32 : BitVec 32 := 182#32
  let v2824 : BitVec 32 := Scalar.addi v2823 c182_i32
  let c8_i32_1691 : BitVec 32 := 8#32
  let v2829 : BitVec 32 := Scalar.muli v2824 c8_i32_1691
  v2829
def k0_off743 (i : grid0.Coords) : Fin 1 → Nat :=
  let c1_i32_1688 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2825 : BitVec 32 := Scalar.subi c1_i32_1688 v9
  ![v2825.toNat]
def k0_off744 (i : grid0.Coords) : Fin 3 → Nat :=
  let c1_i32_1688 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2825 : BitVec 32 := Scalar.subi c1_i32_1688 v9
  let arg1 : BitVec 32 := BitVec.ofNat 32 (i 1).val
  let c2_i32_1685 : BitVec 32 := 2#32
  let v2821 : BitVec 32 := Scalar.muli arg1 c2_i32_1685
  let c0_i32_1686 : BitVec 32 := 0#32
  let v2822 : BitVec 32 := Scalar.addi v2821 c0_i32_1686
  let c256_i32_1687 : BitVec 32 := 256#32
  let v2823 : BitVec 32 := Scalar.muli v2822 c256_i32_1687
  let c182_i32 : BitVec 32 := 182#32
  let v2824 : BitVec 32 := Scalar.addi v2823 c182_i32
  let c8_i32_1691 : BitVec 32 := 8#32
  let v2829 : BitVec 32 := Scalar.muli v2824 c8_i32_1691
  let v2830 : BitVec 32 := v2829
  let c0_i32_1692 : BitVec 32 := 0#32
  ![v2825.toNat, v2830.toNat, 0]
def k0_off745 (v2827 : BitVec 32) : Fin 2 → Nat :=
  let v2828 : BitVec 32 := v2827
  let c0_i32_1693 : BitVec 32 := 0#32
  ![v2828.toNat, 0]

def k0_chk184 (i : grid0.Coords) (v2827 : BitVec 32) : Prop :=
  (∀ (k0_h2 : k0_cond2 i = 1#1), 8 ∣ (k0_mult367 v2827).toNat) ∧
  (∀ (k0_h2 : k0_cond2 i = 1#1), ∀ a, (k0_off745 v2827) a + S8x128.size a ≤ S131072x128.size a)
theorem k0_mult367_dvd : ∀ (i : grid0.Coords) (v2827 : BitVec 32) (k0_hw184 : k0_chk184 i v2827), ∀ (k0_h2 : k0_cond2 i = 1#1), 8 ∣ (k0_mult367 v2827).toNat := fun i v2827 k0_hw184 k0_h2 => k0_hw184.1 k0_h2
theorem k0_off745_inb : ∀ (i : grid0.Coords) (v2827 : BitVec 32) (k0_hw184 : k0_chk184 i v2827), ∀ (k0_h2 : k0_cond2 i = 1#1), ∀ a, (k0_off745 v2827) a + S8x128.size a ≤ S131072x128.size a := fun i v2827 k0_hw184 k0_h2 => k0_hw184.2 k0_h2

def k0_off746 (i : grid0.Coords) : Fin 3 → Nat :=
  let c0_1698 : Index := 0#32
  let c0_1699 : Index := 0#32
  let arg1 : BitVec 32 := BitVec.ofNat 32 (i 1).val
  let c2_i32_1694 : BitVec 32 := 2#32
  let v2836 : BitVec 32 := Scalar.muli arg1 c2_i32_1694
  let c0_i32_1695 : BitVec 32 := 0#32
  let v2837 : BitVec 32 := Scalar.addi v2836 c0_i32_1695
  let c256_i32_1696 : BitVec 32 := 256#32
  let v2838 : BitVec 32 := Scalar.muli v2837 c256_i32_1696
  let c183_i32 : BitVec 32 := 183#32
  let v2839 : BitVec 32 := Scalar.addi v2838 c183_i32
  let v2841 : Index := Scalar.indexCast v2839
  ![0, 0, v2841.toNat]
def k0_mult369 (v2842 : BitVec 32) : BitVec 32 :=
  v2842

def k0_mult370 (i : grid0.Coords) : BitVec 32 :=
  let arg1 : BitVec 32 := BitVec.ofNat 32 (i 1).val
  let c2_i32_1694 : BitVec 32 := 2#32
  let v2836 : BitVec 32 := Scalar.muli arg1 c2_i32_1694
  let c0_i32_1695 : BitVec 32 := 0#32
  let v2837 : BitVec 32 := Scalar.addi v2836 c0_i32_1695
  let c256_i32_1696 : BitVec 32 := 256#32
  let v2838 : BitVec 32 := Scalar.muli v2837 c256_i32_1696
  let c183_i32 : BitVec 32 := 183#32
  let v2839 : BitVec 32 := Scalar.addi v2838 c183_i32
  let c8_i32_1700 : BitVec 32 := 8#32
  let v2844 : BitVec 32 := Scalar.muli v2839 c8_i32_1700
  v2844
def k0_off747 (i : grid0.Coords) : Fin 1 → Nat :=
  let c1_i32_1697 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2840 : BitVec 32 := Scalar.subi c1_i32_1697 v9
  ![v2840.toNat]
def k0_off748 (i : grid0.Coords) : Fin 3 → Nat :=
  let c1_i32_1697 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2840 : BitVec 32 := Scalar.subi c1_i32_1697 v9
  let arg1 : BitVec 32 := BitVec.ofNat 32 (i 1).val
  let c2_i32_1694 : BitVec 32 := 2#32
  let v2836 : BitVec 32 := Scalar.muli arg1 c2_i32_1694
  let c0_i32_1695 : BitVec 32 := 0#32
  let v2837 : BitVec 32 := Scalar.addi v2836 c0_i32_1695
  let c256_i32_1696 : BitVec 32 := 256#32
  let v2838 : BitVec 32 := Scalar.muli v2837 c256_i32_1696
  let c183_i32 : BitVec 32 := 183#32
  let v2839 : BitVec 32 := Scalar.addi v2838 c183_i32
  let c8_i32_1700 : BitVec 32 := 8#32
  let v2844 : BitVec 32 := Scalar.muli v2839 c8_i32_1700
  let v2845 : BitVec 32 := v2844
  let c0_i32_1701 : BitVec 32 := 0#32
  ![v2840.toNat, v2845.toNat, 0]
def k0_off749 (v2842 : BitVec 32) : Fin 2 → Nat :=
  let v2843 : BitVec 32 := v2842
  let c0_i32_1702 : BitVec 32 := 0#32
  ![v2843.toNat, 0]

def k0_chk185 (i : grid0.Coords) (v2842 : BitVec 32) : Prop :=
  (∀ (k0_h2 : k0_cond2 i = 1#1), 8 ∣ (k0_mult369 v2842).toNat) ∧
  (∀ (k0_h2 : k0_cond2 i = 1#1), ∀ a, (k0_off749 v2842) a + S8x128.size a ≤ S131072x128.size a)
theorem k0_mult369_dvd : ∀ (i : grid0.Coords) (v2842 : BitVec 32) (k0_hw185 : k0_chk185 i v2842), ∀ (k0_h2 : k0_cond2 i = 1#1), 8 ∣ (k0_mult369 v2842).toNat := fun i v2842 k0_hw185 k0_h2 => k0_hw185.1 k0_h2
theorem k0_off749_inb : ∀ (i : grid0.Coords) (v2842 : BitVec 32) (k0_hw185 : k0_chk185 i v2842), ∀ (k0_h2 : k0_cond2 i = 1#1), ∀ a, (k0_off749 v2842) a + S8x128.size a ≤ S131072x128.size a := fun i v2842 k0_hw185 k0_h2 => k0_hw185.2 k0_h2

def k0_off750 (i : grid0.Coords) : Fin 3 → Nat :=
  let c0_1707 : Index := 0#32
  let c0_1708 : Index := 0#32
  let arg1 : BitVec 32 := BitVec.ofNat 32 (i 1).val
  let c2_i32_1703 : BitVec 32 := 2#32
  let v2851 : BitVec 32 := Scalar.muli arg1 c2_i32_1703
  let c0_i32_1704 : BitVec 32 := 0#32
  let v2852 : BitVec 32 := Scalar.addi v2851 c0_i32_1704
  let c256_i32_1705 : BitVec 32 := 256#32
  let v2853 : BitVec 32 := Scalar.muli v2852 c256_i32_1705
  let c184_i32 : BitVec 32 := 184#32
  let v2854 : BitVec 32 := Scalar.addi v2853 c184_i32
  let v2856 : Index := Scalar.indexCast v2854
  ![0, 0, v2856.toNat]
def k0_mult371 (v2857 : BitVec 32) : BitVec 32 :=
  v2857

def k0_mult372 (i : grid0.Coords) : BitVec 32 :=
  let arg1 : BitVec 32 := BitVec.ofNat 32 (i 1).val
  let c2_i32_1703 : BitVec 32 := 2#32
  let v2851 : BitVec 32 := Scalar.muli arg1 c2_i32_1703
  let c0_i32_1704 : BitVec 32 := 0#32
  let v2852 : BitVec 32 := Scalar.addi v2851 c0_i32_1704
  let c256_i32_1705 : BitVec 32 := 256#32
  let v2853 : BitVec 32 := Scalar.muli v2852 c256_i32_1705
  let c184_i32 : BitVec 32 := 184#32
  let v2854 : BitVec 32 := Scalar.addi v2853 c184_i32
  let c8_i32_1709 : BitVec 32 := 8#32
  let v2859 : BitVec 32 := Scalar.muli v2854 c8_i32_1709
  v2859
def k0_off751 (i : grid0.Coords) : Fin 1 → Nat :=
  let c1_i32_1706 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2855 : BitVec 32 := Scalar.subi c1_i32_1706 v9
  ![v2855.toNat]
def k0_off752 (i : grid0.Coords) : Fin 3 → Nat :=
  let c1_i32_1706 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2855 : BitVec 32 := Scalar.subi c1_i32_1706 v9
  let arg1 : BitVec 32 := BitVec.ofNat 32 (i 1).val
  let c2_i32_1703 : BitVec 32 := 2#32
  let v2851 : BitVec 32 := Scalar.muli arg1 c2_i32_1703
  let c0_i32_1704 : BitVec 32 := 0#32
  let v2852 : BitVec 32 := Scalar.addi v2851 c0_i32_1704
  let c256_i32_1705 : BitVec 32 := 256#32
  let v2853 : BitVec 32 := Scalar.muli v2852 c256_i32_1705
  let c184_i32 : BitVec 32 := 184#32
  let v2854 : BitVec 32 := Scalar.addi v2853 c184_i32
  let c8_i32_1709 : BitVec 32 := 8#32
  let v2859 : BitVec 32 := Scalar.muli v2854 c8_i32_1709
  let v2860 : BitVec 32 := v2859
  let c0_i32_1710 : BitVec 32 := 0#32
  ![v2855.toNat, v2860.toNat, 0]
def k0_off753 (v2857 : BitVec 32) : Fin 2 → Nat :=
  let v2858 : BitVec 32 := v2857
  let c0_i32_1711 : BitVec 32 := 0#32
  ![v2858.toNat, 0]

def k0_chk186 (i : grid0.Coords) (v2857 : BitVec 32) : Prop :=
  (∀ (k0_h2 : k0_cond2 i = 1#1), 8 ∣ (k0_mult371 v2857).toNat) ∧
  (∀ (k0_h2 : k0_cond2 i = 1#1), ∀ a, (k0_off753 v2857) a + S8x128.size a ≤ S131072x128.size a)
theorem k0_mult371_dvd : ∀ (i : grid0.Coords) (v2857 : BitVec 32) (k0_hw186 : k0_chk186 i v2857), ∀ (k0_h2 : k0_cond2 i = 1#1), 8 ∣ (k0_mult371 v2857).toNat := fun i v2857 k0_hw186 k0_h2 => k0_hw186.1 k0_h2
theorem k0_off753_inb : ∀ (i : grid0.Coords) (v2857 : BitVec 32) (k0_hw186 : k0_chk186 i v2857), ∀ (k0_h2 : k0_cond2 i = 1#1), ∀ a, (k0_off753 v2857) a + S8x128.size a ≤ S131072x128.size a := fun i v2857 k0_hw186 k0_h2 => k0_hw186.2 k0_h2

def k0_off754 (i : grid0.Coords) : Fin 3 → Nat :=
  let c0_1716 : Index := 0#32
  let c0_1717 : Index := 0#32
  let arg1 : BitVec 32 := BitVec.ofNat 32 (i 1).val
  let c2_i32_1712 : BitVec 32 := 2#32
  let v2866 : BitVec 32 := Scalar.muli arg1 c2_i32_1712
  let c0_i32_1713 : BitVec 32 := 0#32
  let v2867 : BitVec 32 := Scalar.addi v2866 c0_i32_1713
  let c256_i32_1714 : BitVec 32 := 256#32
  let v2868 : BitVec 32 := Scalar.muli v2867 c256_i32_1714
  let c185_i32 : BitVec 32 := 185#32
  let v2869 : BitVec 32 := Scalar.addi v2868 c185_i32
  let v2871 : Index := Scalar.indexCast v2869
  ![0, 0, v2871.toNat]
def k0_mult373 (v2872 : BitVec 32) : BitVec 32 :=
  v2872

def k0_mult374 (i : grid0.Coords) : BitVec 32 :=
  let arg1 : BitVec 32 := BitVec.ofNat 32 (i 1).val
  let c2_i32_1712 : BitVec 32 := 2#32
  let v2866 : BitVec 32 := Scalar.muli arg1 c2_i32_1712
  let c0_i32_1713 : BitVec 32 := 0#32
  let v2867 : BitVec 32 := Scalar.addi v2866 c0_i32_1713
  let c256_i32_1714 : BitVec 32 := 256#32
  let v2868 : BitVec 32 := Scalar.muli v2867 c256_i32_1714
  let c185_i32 : BitVec 32 := 185#32
  let v2869 : BitVec 32 := Scalar.addi v2868 c185_i32
  let c8_i32_1718 : BitVec 32 := 8#32
  let v2874 : BitVec 32 := Scalar.muli v2869 c8_i32_1718
  v2874
def k0_off755 (i : grid0.Coords) : Fin 1 → Nat :=
  let c1_i32_1715 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2870 : BitVec 32 := Scalar.subi c1_i32_1715 v9
  ![v2870.toNat]
def k0_off756 (i : grid0.Coords) : Fin 3 → Nat :=
  let c1_i32_1715 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2870 : BitVec 32 := Scalar.subi c1_i32_1715 v9
  let arg1 : BitVec 32 := BitVec.ofNat 32 (i 1).val
  let c2_i32_1712 : BitVec 32 := 2#32
  let v2866 : BitVec 32 := Scalar.muli arg1 c2_i32_1712
  let c0_i32_1713 : BitVec 32 := 0#32
  let v2867 : BitVec 32 := Scalar.addi v2866 c0_i32_1713
  let c256_i32_1714 : BitVec 32 := 256#32
  let v2868 : BitVec 32 := Scalar.muli v2867 c256_i32_1714
  let c185_i32 : BitVec 32 := 185#32
  let v2869 : BitVec 32 := Scalar.addi v2868 c185_i32
  let c8_i32_1718 : BitVec 32 := 8#32
  let v2874 : BitVec 32 := Scalar.muli v2869 c8_i32_1718
  let v2875 : BitVec 32 := v2874
  let c0_i32_1719 : BitVec 32 := 0#32
  ![v2870.toNat, v2875.toNat, 0]
def k0_off757 (v2872 : BitVec 32) : Fin 2 → Nat :=
  let v2873 : BitVec 32 := v2872
  let c0_i32_1720 : BitVec 32 := 0#32
  ![v2873.toNat, 0]

def k0_chk187 (i : grid0.Coords) (v2872 : BitVec 32) : Prop :=
  (∀ (k0_h2 : k0_cond2 i = 1#1), 8 ∣ (k0_mult373 v2872).toNat) ∧
  (∀ (k0_h2 : k0_cond2 i = 1#1), ∀ a, (k0_off757 v2872) a + S8x128.size a ≤ S131072x128.size a)
theorem k0_mult373_dvd : ∀ (i : grid0.Coords) (v2872 : BitVec 32) (k0_hw187 : k0_chk187 i v2872), ∀ (k0_h2 : k0_cond2 i = 1#1), 8 ∣ (k0_mult373 v2872).toNat := fun i v2872 k0_hw187 k0_h2 => k0_hw187.1 k0_h2
theorem k0_off757_inb : ∀ (i : grid0.Coords) (v2872 : BitVec 32) (k0_hw187 : k0_chk187 i v2872), ∀ (k0_h2 : k0_cond2 i = 1#1), ∀ a, (k0_off757 v2872) a + S8x128.size a ≤ S131072x128.size a := fun i v2872 k0_hw187 k0_h2 => k0_hw187.2 k0_h2

def k0_off758 (i : grid0.Coords) : Fin 3 → Nat :=
  let c0_1725 : Index := 0#32
  let c0_1726 : Index := 0#32
  let arg1 : BitVec 32 := BitVec.ofNat 32 (i 1).val
  let c2_i32_1721 : BitVec 32 := 2#32
  let v2881 : BitVec 32 := Scalar.muli arg1 c2_i32_1721
  let c0_i32_1722 : BitVec 32 := 0#32
  let v2882 : BitVec 32 := Scalar.addi v2881 c0_i32_1722
  let c256_i32_1723 : BitVec 32 := 256#32
  let v2883 : BitVec 32 := Scalar.muli v2882 c256_i32_1723
  let c186_i32 : BitVec 32 := 186#32
  let v2884 : BitVec 32 := Scalar.addi v2883 c186_i32
  let v2886 : Index := Scalar.indexCast v2884
  ![0, 0, v2886.toNat]
def k0_mult375 (v2887 : BitVec 32) : BitVec 32 :=
  v2887

def k0_mult376 (i : grid0.Coords) : BitVec 32 :=
  let arg1 : BitVec 32 := BitVec.ofNat 32 (i 1).val
  let c2_i32_1721 : BitVec 32 := 2#32
  let v2881 : BitVec 32 := Scalar.muli arg1 c2_i32_1721
  let c0_i32_1722 : BitVec 32 := 0#32
  let v2882 : BitVec 32 := Scalar.addi v2881 c0_i32_1722
  let c256_i32_1723 : BitVec 32 := 256#32
  let v2883 : BitVec 32 := Scalar.muli v2882 c256_i32_1723
  let c186_i32 : BitVec 32 := 186#32
  let v2884 : BitVec 32 := Scalar.addi v2883 c186_i32
  let c8_i32_1727 : BitVec 32 := 8#32
  let v2889 : BitVec 32 := Scalar.muli v2884 c8_i32_1727
  v2889
def k0_off759 (i : grid0.Coords) : Fin 1 → Nat :=
  let c1_i32_1724 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2885 : BitVec 32 := Scalar.subi c1_i32_1724 v9
  ![v2885.toNat]
def k0_off760 (i : grid0.Coords) : Fin 3 → Nat :=
  let c1_i32_1724 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2885 : BitVec 32 := Scalar.subi c1_i32_1724 v9
  let arg1 : BitVec 32 := BitVec.ofNat 32 (i 1).val
  let c2_i32_1721 : BitVec 32 := 2#32
  let v2881 : BitVec 32 := Scalar.muli arg1 c2_i32_1721
  let c0_i32_1722 : BitVec 32 := 0#32
  let v2882 : BitVec 32 := Scalar.addi v2881 c0_i32_1722
  let c256_i32_1723 : BitVec 32 := 256#32
  let v2883 : BitVec 32 := Scalar.muli v2882 c256_i32_1723
  let c186_i32 : BitVec 32 := 186#32
  let v2884 : BitVec 32 := Scalar.addi v2883 c186_i32
  let c8_i32_1727 : BitVec 32 := 8#32
  let v2889 : BitVec 32 := Scalar.muli v2884 c8_i32_1727
  let v2890 : BitVec 32 := v2889
  let c0_i32_1728 : BitVec 32 := 0#32
  ![v2885.toNat, v2890.toNat, 0]
def k0_off761 (v2887 : BitVec 32) : Fin 2 → Nat :=
  let v2888 : BitVec 32 := v2887
  let c0_i32_1729 : BitVec 32 := 0#32
  ![v2888.toNat, 0]

def k0_chk188 (i : grid0.Coords) (v2887 : BitVec 32) : Prop :=
  (∀ (k0_h2 : k0_cond2 i = 1#1), 8 ∣ (k0_mult375 v2887).toNat) ∧
  (∀ (k0_h2 : k0_cond2 i = 1#1), ∀ a, (k0_off761 v2887) a + S8x128.size a ≤ S131072x128.size a)
theorem k0_mult375_dvd : ∀ (i : grid0.Coords) (v2887 : BitVec 32) (k0_hw188 : k0_chk188 i v2887), ∀ (k0_h2 : k0_cond2 i = 1#1), 8 ∣ (k0_mult375 v2887).toNat := fun i v2887 k0_hw188 k0_h2 => k0_hw188.1 k0_h2
theorem k0_off761_inb : ∀ (i : grid0.Coords) (v2887 : BitVec 32) (k0_hw188 : k0_chk188 i v2887), ∀ (k0_h2 : k0_cond2 i = 1#1), ∀ a, (k0_off761 v2887) a + S8x128.size a ≤ S131072x128.size a := fun i v2887 k0_hw188 k0_h2 => k0_hw188.2 k0_h2

def k0_off762 (i : grid0.Coords) : Fin 3 → Nat :=
  let c0_1734 : Index := 0#32
  let c0_1735 : Index := 0#32
  let arg1 : BitVec 32 := BitVec.ofNat 32 (i 1).val
  let c2_i32_1730 : BitVec 32 := 2#32
  let v2896 : BitVec 32 := Scalar.muli arg1 c2_i32_1730
  let c0_i32_1731 : BitVec 32 := 0#32
  let v2897 : BitVec 32 := Scalar.addi v2896 c0_i32_1731
  let c256_i32_1732 : BitVec 32 := 256#32
  let v2898 : BitVec 32 := Scalar.muli v2897 c256_i32_1732
  let c187_i32 : BitVec 32 := 187#32
  let v2899 : BitVec 32 := Scalar.addi v2898 c187_i32
  let v2901 : Index := Scalar.indexCast v2899
  ![0, 0, v2901.toNat]
def k0_mult377 (v2902 : BitVec 32) : BitVec 32 :=
  v2902

def k0_mult378 (i : grid0.Coords) : BitVec 32 :=
  let arg1 : BitVec 32 := BitVec.ofNat 32 (i 1).val
  let c2_i32_1730 : BitVec 32 := 2#32
  let v2896 : BitVec 32 := Scalar.muli arg1 c2_i32_1730
  let c0_i32_1731 : BitVec 32 := 0#32
  let v2897 : BitVec 32 := Scalar.addi v2896 c0_i32_1731
  let c256_i32_1732 : BitVec 32 := 256#32
  let v2898 : BitVec 32 := Scalar.muli v2897 c256_i32_1732
  let c187_i32 : BitVec 32 := 187#32
  let v2899 : BitVec 32 := Scalar.addi v2898 c187_i32
  let c8_i32_1736 : BitVec 32 := 8#32
  let v2904 : BitVec 32 := Scalar.muli v2899 c8_i32_1736
  v2904
def k0_off763 (i : grid0.Coords) : Fin 1 → Nat :=
  let c1_i32_1733 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2900 : BitVec 32 := Scalar.subi c1_i32_1733 v9
  ![v2900.toNat]
def k0_off764 (i : grid0.Coords) : Fin 3 → Nat :=
  let c1_i32_1733 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2900 : BitVec 32 := Scalar.subi c1_i32_1733 v9
  let arg1 : BitVec 32 := BitVec.ofNat 32 (i 1).val
  let c2_i32_1730 : BitVec 32 := 2#32
  let v2896 : BitVec 32 := Scalar.muli arg1 c2_i32_1730
  let c0_i32_1731 : BitVec 32 := 0#32
  let v2897 : BitVec 32 := Scalar.addi v2896 c0_i32_1731
  let c256_i32_1732 : BitVec 32 := 256#32
  let v2898 : BitVec 32 := Scalar.muli v2897 c256_i32_1732
  let c187_i32 : BitVec 32 := 187#32
  let v2899 : BitVec 32 := Scalar.addi v2898 c187_i32
  let c8_i32_1736 : BitVec 32 := 8#32
  let v2904 : BitVec 32 := Scalar.muli v2899 c8_i32_1736
  let v2905 : BitVec 32 := v2904
  let c0_i32_1737 : BitVec 32 := 0#32
  ![v2900.toNat, v2905.toNat, 0]
def k0_off765 (v2902 : BitVec 32) : Fin 2 → Nat :=
  let v2903 : BitVec 32 := v2902
  let c0_i32_1738 : BitVec 32 := 0#32
  ![v2903.toNat, 0]

def k0_chk189 (i : grid0.Coords) (v2902 : BitVec 32) : Prop :=
  (∀ (k0_h2 : k0_cond2 i = 1#1), 8 ∣ (k0_mult377 v2902).toNat) ∧
  (∀ (k0_h2 : k0_cond2 i = 1#1), ∀ a, (k0_off765 v2902) a + S8x128.size a ≤ S131072x128.size a)
theorem k0_mult377_dvd : ∀ (i : grid0.Coords) (v2902 : BitVec 32) (k0_hw189 : k0_chk189 i v2902), ∀ (k0_h2 : k0_cond2 i = 1#1), 8 ∣ (k0_mult377 v2902).toNat := fun i v2902 k0_hw189 k0_h2 => k0_hw189.1 k0_h2
theorem k0_off765_inb : ∀ (i : grid0.Coords) (v2902 : BitVec 32) (k0_hw189 : k0_chk189 i v2902), ∀ (k0_h2 : k0_cond2 i = 1#1), ∀ a, (k0_off765 v2902) a + S8x128.size a ≤ S131072x128.size a := fun i v2902 k0_hw189 k0_h2 => k0_hw189.2 k0_h2

def k0_off766 (i : grid0.Coords) : Fin 3 → Nat :=
  let c0_1743 : Index := 0#32
  let c0_1744 : Index := 0#32
  let arg1 : BitVec 32 := BitVec.ofNat 32 (i 1).val
  let c2_i32_1739 : BitVec 32 := 2#32
  let v2911 : BitVec 32 := Scalar.muli arg1 c2_i32_1739
  let c0_i32_1740 : BitVec 32 := 0#32
  let v2912 : BitVec 32 := Scalar.addi v2911 c0_i32_1740
  let c256_i32_1741 : BitVec 32 := 256#32
  let v2913 : BitVec 32 := Scalar.muli v2912 c256_i32_1741
  let c188_i32 : BitVec 32 := 188#32
  let v2914 : BitVec 32 := Scalar.addi v2913 c188_i32
  let v2916 : Index := Scalar.indexCast v2914
  ![0, 0, v2916.toNat]
def k0_mult379 (v2917 : BitVec 32) : BitVec 32 :=
  v2917

def k0_mult380 (i : grid0.Coords) : BitVec 32 :=
  let arg1 : BitVec 32 := BitVec.ofNat 32 (i 1).val
  let c2_i32_1739 : BitVec 32 := 2#32
  let v2911 : BitVec 32 := Scalar.muli arg1 c2_i32_1739
  let c0_i32_1740 : BitVec 32 := 0#32
  let v2912 : BitVec 32 := Scalar.addi v2911 c0_i32_1740
  let c256_i32_1741 : BitVec 32 := 256#32
  let v2913 : BitVec 32 := Scalar.muli v2912 c256_i32_1741
  let c188_i32 : BitVec 32 := 188#32
  let v2914 : BitVec 32 := Scalar.addi v2913 c188_i32
  let c8_i32_1745 : BitVec 32 := 8#32
  let v2919 : BitVec 32 := Scalar.muli v2914 c8_i32_1745
  v2919
def k0_off767 (i : grid0.Coords) : Fin 1 → Nat :=
  let c1_i32_1742 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2915 : BitVec 32 := Scalar.subi c1_i32_1742 v9
  ![v2915.toNat]
def k0_off768 (i : grid0.Coords) : Fin 3 → Nat :=
  let c1_i32_1742 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2915 : BitVec 32 := Scalar.subi c1_i32_1742 v9
  let arg1 : BitVec 32 := BitVec.ofNat 32 (i 1).val
  let c2_i32_1739 : BitVec 32 := 2#32
  let v2911 : BitVec 32 := Scalar.muli arg1 c2_i32_1739
  let c0_i32_1740 : BitVec 32 := 0#32
  let v2912 : BitVec 32 := Scalar.addi v2911 c0_i32_1740
  let c256_i32_1741 : BitVec 32 := 256#32
  let v2913 : BitVec 32 := Scalar.muli v2912 c256_i32_1741
  let c188_i32 : BitVec 32 := 188#32
  let v2914 : BitVec 32 := Scalar.addi v2913 c188_i32
  let c8_i32_1745 : BitVec 32 := 8#32
  let v2919 : BitVec 32 := Scalar.muli v2914 c8_i32_1745
  let v2920 : BitVec 32 := v2919
  let c0_i32_1746 : BitVec 32 := 0#32
  ![v2915.toNat, v2920.toNat, 0]
def k0_off769 (v2917 : BitVec 32) : Fin 2 → Nat :=
  let v2918 : BitVec 32 := v2917
  let c0_i32_1747 : BitVec 32 := 0#32
  ![v2918.toNat, 0]

def k0_chk190 (i : grid0.Coords) (v2917 : BitVec 32) : Prop :=
  (∀ (k0_h2 : k0_cond2 i = 1#1), 8 ∣ (k0_mult379 v2917).toNat) ∧
  (∀ (k0_h2 : k0_cond2 i = 1#1), ∀ a, (k0_off769 v2917) a + S8x128.size a ≤ S131072x128.size a)
theorem k0_mult379_dvd : ∀ (i : grid0.Coords) (v2917 : BitVec 32) (k0_hw190 : k0_chk190 i v2917), ∀ (k0_h2 : k0_cond2 i = 1#1), 8 ∣ (k0_mult379 v2917).toNat := fun i v2917 k0_hw190 k0_h2 => k0_hw190.1 k0_h2
theorem k0_off769_inb : ∀ (i : grid0.Coords) (v2917 : BitVec 32) (k0_hw190 : k0_chk190 i v2917), ∀ (k0_h2 : k0_cond2 i = 1#1), ∀ a, (k0_off769 v2917) a + S8x128.size a ≤ S131072x128.size a := fun i v2917 k0_hw190 k0_h2 => k0_hw190.2 k0_h2

def k0_off770 (i : grid0.Coords) : Fin 3 → Nat :=
  let c0_1752 : Index := 0#32
  let c0_1753 : Index := 0#32
  let arg1 : BitVec 32 := BitVec.ofNat 32 (i 1).val
  let c2_i32_1748 : BitVec 32 := 2#32
  let v2926 : BitVec 32 := Scalar.muli arg1 c2_i32_1748
  let c0_i32_1749 : BitVec 32 := 0#32
  let v2927 : BitVec 32 := Scalar.addi v2926 c0_i32_1749
  let c256_i32_1750 : BitVec 32 := 256#32
  let v2928 : BitVec 32 := Scalar.muli v2927 c256_i32_1750
  let c189_i32 : BitVec 32 := 189#32
  let v2929 : BitVec 32 := Scalar.addi v2928 c189_i32
  let v2931 : Index := Scalar.indexCast v2929
  ![0, 0, v2931.toNat]
def k0_mult381 (v2932 : BitVec 32) : BitVec 32 :=
  v2932

def k0_mult382 (i : grid0.Coords) : BitVec 32 :=
  let arg1 : BitVec 32 := BitVec.ofNat 32 (i 1).val
  let c2_i32_1748 : BitVec 32 := 2#32
  let v2926 : BitVec 32 := Scalar.muli arg1 c2_i32_1748
  let c0_i32_1749 : BitVec 32 := 0#32
  let v2927 : BitVec 32 := Scalar.addi v2926 c0_i32_1749
  let c256_i32_1750 : BitVec 32 := 256#32
  let v2928 : BitVec 32 := Scalar.muli v2927 c256_i32_1750
  let c189_i32 : BitVec 32 := 189#32
  let v2929 : BitVec 32 := Scalar.addi v2928 c189_i32
  let c8_i32_1754 : BitVec 32 := 8#32
  let v2934 : BitVec 32 := Scalar.muli v2929 c8_i32_1754
  v2934
def k0_off771 (i : grid0.Coords) : Fin 1 → Nat :=
  let c1_i32_1751 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2930 : BitVec 32 := Scalar.subi c1_i32_1751 v9
  ![v2930.toNat]
def k0_off772 (i : grid0.Coords) : Fin 3 → Nat :=
  let c1_i32_1751 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2930 : BitVec 32 := Scalar.subi c1_i32_1751 v9
  let arg1 : BitVec 32 := BitVec.ofNat 32 (i 1).val
  let c2_i32_1748 : BitVec 32 := 2#32
  let v2926 : BitVec 32 := Scalar.muli arg1 c2_i32_1748
  let c0_i32_1749 : BitVec 32 := 0#32
  let v2927 : BitVec 32 := Scalar.addi v2926 c0_i32_1749
  let c256_i32_1750 : BitVec 32 := 256#32
  let v2928 : BitVec 32 := Scalar.muli v2927 c256_i32_1750
  let c189_i32 : BitVec 32 := 189#32
  let v2929 : BitVec 32 := Scalar.addi v2928 c189_i32
  let c8_i32_1754 : BitVec 32 := 8#32
  let v2934 : BitVec 32 := Scalar.muli v2929 c8_i32_1754
  let v2935 : BitVec 32 := v2934
  let c0_i32_1755 : BitVec 32 := 0#32
  ![v2930.toNat, v2935.toNat, 0]
def k0_off773 (v2932 : BitVec 32) : Fin 2 → Nat :=
  let v2933 : BitVec 32 := v2932
  let c0_i32_1756 : BitVec 32 := 0#32
  ![v2933.toNat, 0]

def k0_chk191 (i : grid0.Coords) (v2932 : BitVec 32) : Prop :=
  (∀ (k0_h2 : k0_cond2 i = 1#1), 8 ∣ (k0_mult381 v2932).toNat) ∧
  (∀ (k0_h2 : k0_cond2 i = 1#1), ∀ a, (k0_off773 v2932) a + S8x128.size a ≤ S131072x128.size a)
theorem k0_mult381_dvd : ∀ (i : grid0.Coords) (v2932 : BitVec 32) (k0_hw191 : k0_chk191 i v2932), ∀ (k0_h2 : k0_cond2 i = 1#1), 8 ∣ (k0_mult381 v2932).toNat := fun i v2932 k0_hw191 k0_h2 => k0_hw191.1 k0_h2
theorem k0_off773_inb : ∀ (i : grid0.Coords) (v2932 : BitVec 32) (k0_hw191 : k0_chk191 i v2932), ∀ (k0_h2 : k0_cond2 i = 1#1), ∀ a, (k0_off773 v2932) a + S8x128.size a ≤ S131072x128.size a := fun i v2932 k0_hw191 k0_h2 => k0_hw191.2 k0_h2

def k0_off774 (i : grid0.Coords) : Fin 3 → Nat :=
  let c0_1761 : Index := 0#32
  let c0_1762 : Index := 0#32
  let arg1 : BitVec 32 := BitVec.ofNat 32 (i 1).val
  let c2_i32_1757 : BitVec 32 := 2#32
  let v2941 : BitVec 32 := Scalar.muli arg1 c2_i32_1757
  let c0_i32_1758 : BitVec 32 := 0#32
  let v2942 : BitVec 32 := Scalar.addi v2941 c0_i32_1758
  let c256_i32_1759 : BitVec 32 := 256#32
  let v2943 : BitVec 32 := Scalar.muli v2942 c256_i32_1759
  let c190_i32 : BitVec 32 := 190#32
  let v2944 : BitVec 32 := Scalar.addi v2943 c190_i32
  let v2946 : Index := Scalar.indexCast v2944
  ![0, 0, v2946.toNat]
def k0_mult383 (v2947 : BitVec 32) : BitVec 32 :=
  v2947

def k0_mult384 (i : grid0.Coords) : BitVec 32 :=
  let arg1 : BitVec 32 := BitVec.ofNat 32 (i 1).val
  let c2_i32_1757 : BitVec 32 := 2#32
  let v2941 : BitVec 32 := Scalar.muli arg1 c2_i32_1757
  let c0_i32_1758 : BitVec 32 := 0#32
  let v2942 : BitVec 32 := Scalar.addi v2941 c0_i32_1758
  let c256_i32_1759 : BitVec 32 := 256#32
  let v2943 : BitVec 32 := Scalar.muli v2942 c256_i32_1759
  let c190_i32 : BitVec 32 := 190#32
  let v2944 : BitVec 32 := Scalar.addi v2943 c190_i32
  let c8_i32_1763 : BitVec 32 := 8#32
  let v2949 : BitVec 32 := Scalar.muli v2944 c8_i32_1763
  v2949
def k0_off775 (i : grid0.Coords) : Fin 1 → Nat :=
  let c1_i32_1760 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2945 : BitVec 32 := Scalar.subi c1_i32_1760 v9
  ![v2945.toNat]
def k0_off776 (i : grid0.Coords) : Fin 3 → Nat :=
  let c1_i32_1760 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2945 : BitVec 32 := Scalar.subi c1_i32_1760 v9
  let arg1 : BitVec 32 := BitVec.ofNat 32 (i 1).val
  let c2_i32_1757 : BitVec 32 := 2#32
  let v2941 : BitVec 32 := Scalar.muli arg1 c2_i32_1757
  let c0_i32_1758 : BitVec 32 := 0#32
  let v2942 : BitVec 32 := Scalar.addi v2941 c0_i32_1758
  let c256_i32_1759 : BitVec 32 := 256#32
  let v2943 : BitVec 32 := Scalar.muli v2942 c256_i32_1759
  let c190_i32 : BitVec 32 := 190#32
  let v2944 : BitVec 32 := Scalar.addi v2943 c190_i32
  let c8_i32_1763 : BitVec 32 := 8#32
  let v2949 : BitVec 32 := Scalar.muli v2944 c8_i32_1763
  let v2950 : BitVec 32 := v2949
  let c0_i32_1764 : BitVec 32 := 0#32
  ![v2945.toNat, v2950.toNat, 0]
def k0_off777 (v2947 : BitVec 32) : Fin 2 → Nat :=
  let v2948 : BitVec 32 := v2947
  let c0_i32_1765 : BitVec 32 := 0#32
  ![v2948.toNat, 0]

def k0_chk192 (i : grid0.Coords) (v2947 : BitVec 32) : Prop :=
  (∀ (k0_h2 : k0_cond2 i = 1#1), 8 ∣ (k0_mult383 v2947).toNat) ∧
  (∀ (k0_h2 : k0_cond2 i = 1#1), ∀ a, (k0_off777 v2947) a + S8x128.size a ≤ S131072x128.size a)
theorem k0_mult383_dvd : ∀ (i : grid0.Coords) (v2947 : BitVec 32) (k0_hw192 : k0_chk192 i v2947), ∀ (k0_h2 : k0_cond2 i = 1#1), 8 ∣ (k0_mult383 v2947).toNat := fun i v2947 k0_hw192 k0_h2 => k0_hw192.1 k0_h2
theorem k0_off777_inb : ∀ (i : grid0.Coords) (v2947 : BitVec 32) (k0_hw192 : k0_chk192 i v2947), ∀ (k0_h2 : k0_cond2 i = 1#1), ∀ a, (k0_off777 v2947) a + S8x128.size a ≤ S131072x128.size a := fun i v2947 k0_hw192 k0_h2 => k0_hw192.2 k0_h2

def k0_off778 (i : grid0.Coords) : Fin 3 → Nat :=
  let c0_1770 : Index := 0#32
  let c0_1771 : Index := 0#32
  let arg1 : BitVec 32 := BitVec.ofNat 32 (i 1).val
  let c2_i32_1766 : BitVec 32 := 2#32
  let v2956 : BitVec 32 := Scalar.muli arg1 c2_i32_1766
  let c0_i32_1767 : BitVec 32 := 0#32
  let v2957 : BitVec 32 := Scalar.addi v2956 c0_i32_1767
  let c256_i32_1768 : BitVec 32 := 256#32
  let v2958 : BitVec 32 := Scalar.muli v2957 c256_i32_1768
  let c191_i32 : BitVec 32 := 191#32
  let v2959 : BitVec 32 := Scalar.addi v2958 c191_i32
  let v2961 : Index := Scalar.indexCast v2959
  ![0, 0, v2961.toNat]
def k0_mult385 (v2962 : BitVec 32) : BitVec 32 :=
  v2962

def k0_mult386 (i : grid0.Coords) : BitVec 32 :=
  let arg1 : BitVec 32 := BitVec.ofNat 32 (i 1).val
  let c2_i32_1766 : BitVec 32 := 2#32
  let v2956 : BitVec 32 := Scalar.muli arg1 c2_i32_1766
  let c0_i32_1767 : BitVec 32 := 0#32
  let v2957 : BitVec 32 := Scalar.addi v2956 c0_i32_1767
  let c256_i32_1768 : BitVec 32 := 256#32
  let v2958 : BitVec 32 := Scalar.muli v2957 c256_i32_1768
  let c191_i32 : BitVec 32 := 191#32
  let v2959 : BitVec 32 := Scalar.addi v2958 c191_i32
  let c8_i32_1772 : BitVec 32 := 8#32
  let v2964 : BitVec 32 := Scalar.muli v2959 c8_i32_1772
  v2964
def k0_off779 (i : grid0.Coords) : Fin 1 → Nat :=
  let c1_i32_1769 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2960 : BitVec 32 := Scalar.subi c1_i32_1769 v9
  ![v2960.toNat]
def k0_off780 (i : grid0.Coords) : Fin 3 → Nat :=
  let c1_i32_1769 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2960 : BitVec 32 := Scalar.subi c1_i32_1769 v9
  let arg1 : BitVec 32 := BitVec.ofNat 32 (i 1).val
  let c2_i32_1766 : BitVec 32 := 2#32
  let v2956 : BitVec 32 := Scalar.muli arg1 c2_i32_1766
  let c0_i32_1767 : BitVec 32 := 0#32
  let v2957 : BitVec 32 := Scalar.addi v2956 c0_i32_1767
  let c256_i32_1768 : BitVec 32 := 256#32
  let v2958 : BitVec 32 := Scalar.muli v2957 c256_i32_1768
  let c191_i32 : BitVec 32 := 191#32
  let v2959 : BitVec 32 := Scalar.addi v2958 c191_i32
  let c8_i32_1772 : BitVec 32 := 8#32
  let v2964 : BitVec 32 := Scalar.muli v2959 c8_i32_1772
  let v2965 : BitVec 32 := v2964
  let c0_i32_1773 : BitVec 32 := 0#32
  ![v2960.toNat, v2965.toNat, 0]
def k0_off781 (v2962 : BitVec 32) : Fin 2 → Nat :=
  let v2963 : BitVec 32 := v2962
  let c0_i32_1774 : BitVec 32 := 0#32
  ![v2963.toNat, 0]

def k0_chk193 (i : grid0.Coords) (v2962 : BitVec 32) : Prop :=
  (∀ (k0_h2 : k0_cond2 i = 1#1), 8 ∣ (k0_mult385 v2962).toNat) ∧
  (∀ (k0_h2 : k0_cond2 i = 1#1), ∀ a, (k0_off781 v2962) a + S8x128.size a ≤ S131072x128.size a)
theorem k0_mult385_dvd : ∀ (i : grid0.Coords) (v2962 : BitVec 32) (k0_hw193 : k0_chk193 i v2962), ∀ (k0_h2 : k0_cond2 i = 1#1), 8 ∣ (k0_mult385 v2962).toNat := fun i v2962 k0_hw193 k0_h2 => k0_hw193.1 k0_h2
theorem k0_off781_inb : ∀ (i : grid0.Coords) (v2962 : BitVec 32) (k0_hw193 : k0_chk193 i v2962), ∀ (k0_h2 : k0_cond2 i = 1#1), ∀ a, (k0_off781 v2962) a + S8x128.size a ≤ S131072x128.size a := fun i v2962 k0_hw193 k0_h2 => k0_hw193.2 k0_h2

def k0_off782 (i : grid0.Coords) : Fin 3 → Nat :=
  let c0_1779 : Index := 0#32
  let c0_1780 : Index := 0#32
  let arg1 : BitVec 32 := BitVec.ofNat 32 (i 1).val
  let c2_i32_1775 : BitVec 32 := 2#32
  let v2971 : BitVec 32 := Scalar.muli arg1 c2_i32_1775
  let c0_i32_1776 : BitVec 32 := 0#32
  let v2972 : BitVec 32 := Scalar.addi v2971 c0_i32_1776
  let c256_i32_1777 : BitVec 32 := 256#32
  let v2973 : BitVec 32 := Scalar.muli v2972 c256_i32_1777
  let c192_i32 : BitVec 32 := 192#32
  let v2974 : BitVec 32 := Scalar.addi v2973 c192_i32
  let v2976 : Index := Scalar.indexCast v2974
  ![0, 0, v2976.toNat]
def k0_mult387 (v2977 : BitVec 32) : BitVec 32 :=
  v2977

def k0_mult388 (i : grid0.Coords) : BitVec 32 :=
  let arg1 : BitVec 32 := BitVec.ofNat 32 (i 1).val
  let c2_i32_1775 : BitVec 32 := 2#32
  let v2971 : BitVec 32 := Scalar.muli arg1 c2_i32_1775
  let c0_i32_1776 : BitVec 32 := 0#32
  let v2972 : BitVec 32 := Scalar.addi v2971 c0_i32_1776
  let c256_i32_1777 : BitVec 32 := 256#32
  let v2973 : BitVec 32 := Scalar.muli v2972 c256_i32_1777
  let c192_i32 : BitVec 32 := 192#32
  let v2974 : BitVec 32 := Scalar.addi v2973 c192_i32
  let c8_i32_1781 : BitVec 32 := 8#32
  let v2979 : BitVec 32 := Scalar.muli v2974 c8_i32_1781
  v2979
def k0_off783 (i : grid0.Coords) : Fin 1 → Nat :=
  let c1_i32_1778 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2975 : BitVec 32 := Scalar.subi c1_i32_1778 v9
  ![v2975.toNat]
def k0_off784 (i : grid0.Coords) : Fin 3 → Nat :=
  let c1_i32_1778 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2975 : BitVec 32 := Scalar.subi c1_i32_1778 v9
  let arg1 : BitVec 32 := BitVec.ofNat 32 (i 1).val
  let c2_i32_1775 : BitVec 32 := 2#32
  let v2971 : BitVec 32 := Scalar.muli arg1 c2_i32_1775
  let c0_i32_1776 : BitVec 32 := 0#32
  let v2972 : BitVec 32 := Scalar.addi v2971 c0_i32_1776
  let c256_i32_1777 : BitVec 32 := 256#32
  let v2973 : BitVec 32 := Scalar.muli v2972 c256_i32_1777
  let c192_i32 : BitVec 32 := 192#32
  let v2974 : BitVec 32 := Scalar.addi v2973 c192_i32
  let c8_i32_1781 : BitVec 32 := 8#32
  let v2979 : BitVec 32 := Scalar.muli v2974 c8_i32_1781
  let v2980 : BitVec 32 := v2979
  let c0_i32_1782 : BitVec 32 := 0#32
  ![v2975.toNat, v2980.toNat, 0]
def k0_off785 (v2977 : BitVec 32) : Fin 2 → Nat :=
  let v2978 : BitVec 32 := v2977
  let c0_i32_1783 : BitVec 32 := 0#32
  ![v2978.toNat, 0]

def k0_chk194 (i : grid0.Coords) (v2977 : BitVec 32) : Prop :=
  (∀ (k0_h2 : k0_cond2 i = 1#1), 8 ∣ (k0_mult387 v2977).toNat) ∧
  (∀ (k0_h2 : k0_cond2 i = 1#1), ∀ a, (k0_off785 v2977) a + S8x128.size a ≤ S131072x128.size a)
theorem k0_mult387_dvd : ∀ (i : grid0.Coords) (v2977 : BitVec 32) (k0_hw194 : k0_chk194 i v2977), ∀ (k0_h2 : k0_cond2 i = 1#1), 8 ∣ (k0_mult387 v2977).toNat := fun i v2977 k0_hw194 k0_h2 => k0_hw194.1 k0_h2
theorem k0_off785_inb : ∀ (i : grid0.Coords) (v2977 : BitVec 32) (k0_hw194 : k0_chk194 i v2977), ∀ (k0_h2 : k0_cond2 i = 1#1), ∀ a, (k0_off785 v2977) a + S8x128.size a ≤ S131072x128.size a := fun i v2977 k0_hw194 k0_h2 => k0_hw194.2 k0_h2

def k0_off786 (i : grid0.Coords) : Fin 3 → Nat :=
  let c0_1788 : Index := 0#32
  let c0_1789 : Index := 0#32
  let arg1 : BitVec 32 := BitVec.ofNat 32 (i 1).val
  let c2_i32_1784 : BitVec 32 := 2#32
  let v2986 : BitVec 32 := Scalar.muli arg1 c2_i32_1784
  let c0_i32_1785 : BitVec 32 := 0#32
  let v2987 : BitVec 32 := Scalar.addi v2986 c0_i32_1785
  let c256_i32_1786 : BitVec 32 := 256#32
  let v2988 : BitVec 32 := Scalar.muli v2987 c256_i32_1786
  let c193_i32 : BitVec 32 := 193#32
  let v2989 : BitVec 32 := Scalar.addi v2988 c193_i32
  let v2991 : Index := Scalar.indexCast v2989
  ![0, 0, v2991.toNat]
def k0_mult389 (v2992 : BitVec 32) : BitVec 32 :=
  v2992

def k0_mult390 (i : grid0.Coords) : BitVec 32 :=
  let arg1 : BitVec 32 := BitVec.ofNat 32 (i 1).val
  let c2_i32_1784 : BitVec 32 := 2#32
  let v2986 : BitVec 32 := Scalar.muli arg1 c2_i32_1784
  let c0_i32_1785 : BitVec 32 := 0#32
  let v2987 : BitVec 32 := Scalar.addi v2986 c0_i32_1785
  let c256_i32_1786 : BitVec 32 := 256#32
  let v2988 : BitVec 32 := Scalar.muli v2987 c256_i32_1786
  let c193_i32 : BitVec 32 := 193#32
  let v2989 : BitVec 32 := Scalar.addi v2988 c193_i32
  let c8_i32_1790 : BitVec 32 := 8#32
  let v2994 : BitVec 32 := Scalar.muli v2989 c8_i32_1790
  v2994
def k0_off787 (i : grid0.Coords) : Fin 1 → Nat :=
  let c1_i32_1787 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2990 : BitVec 32 := Scalar.subi c1_i32_1787 v9
  ![v2990.toNat]
def k0_off788 (i : grid0.Coords) : Fin 3 → Nat :=
  let c1_i32_1787 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2990 : BitVec 32 := Scalar.subi c1_i32_1787 v9
  let arg1 : BitVec 32 := BitVec.ofNat 32 (i 1).val
  let c2_i32_1784 : BitVec 32 := 2#32
  let v2986 : BitVec 32 := Scalar.muli arg1 c2_i32_1784
  let c0_i32_1785 : BitVec 32 := 0#32
  let v2987 : BitVec 32 := Scalar.addi v2986 c0_i32_1785
  let c256_i32_1786 : BitVec 32 := 256#32
  let v2988 : BitVec 32 := Scalar.muli v2987 c256_i32_1786
  let c193_i32 : BitVec 32 := 193#32
  let v2989 : BitVec 32 := Scalar.addi v2988 c193_i32
  let c8_i32_1790 : BitVec 32 := 8#32
  let v2994 : BitVec 32 := Scalar.muli v2989 c8_i32_1790
  let v2995 : BitVec 32 := v2994
  let c0_i32_1791 : BitVec 32 := 0#32
  ![v2990.toNat, v2995.toNat, 0]
def k0_off789 (v2992 : BitVec 32) : Fin 2 → Nat :=
  let v2993 : BitVec 32 := v2992
  let c0_i32_1792 : BitVec 32 := 0#32
  ![v2993.toNat, 0]

def k0_chk195 (i : grid0.Coords) (v2992 : BitVec 32) : Prop :=
  (∀ (k0_h2 : k0_cond2 i = 1#1), 8 ∣ (k0_mult389 v2992).toNat) ∧
  (∀ (k0_h2 : k0_cond2 i = 1#1), ∀ a, (k0_off789 v2992) a + S8x128.size a ≤ S131072x128.size a)
theorem k0_mult389_dvd : ∀ (i : grid0.Coords) (v2992 : BitVec 32) (k0_hw195 : k0_chk195 i v2992), ∀ (k0_h2 : k0_cond2 i = 1#1), 8 ∣ (k0_mult389 v2992).toNat := fun i v2992 k0_hw195 k0_h2 => k0_hw195.1 k0_h2
theorem k0_off789_inb : ∀ (i : grid0.Coords) (v2992 : BitVec 32) (k0_hw195 : k0_chk195 i v2992), ∀ (k0_h2 : k0_cond2 i = 1#1), ∀ a, (k0_off789 v2992) a + S8x128.size a ≤ S131072x128.size a := fun i v2992 k0_hw195 k0_h2 => k0_hw195.2 k0_h2

def k0_off790 (i : grid0.Coords) : Fin 3 → Nat :=
  let c0_1797 : Index := 0#32
  let c0_1798 : Index := 0#32
  let arg1 : BitVec 32 := BitVec.ofNat 32 (i 1).val
  let c2_i32_1793 : BitVec 32 := 2#32
  let v3001 : BitVec 32 := Scalar.muli arg1 c2_i32_1793
  let c0_i32_1794 : BitVec 32 := 0#32
  let v3002 : BitVec 32 := Scalar.addi v3001 c0_i32_1794
  let c256_i32_1795 : BitVec 32 := 256#32
  let v3003 : BitVec 32 := Scalar.muli v3002 c256_i32_1795
  let c194_i32 : BitVec 32 := 194#32
  let v3004 : BitVec 32 := Scalar.addi v3003 c194_i32
  let v3006 : Index := Scalar.indexCast v3004
  ![0, 0, v3006.toNat]
def k0_mult391 (v3007 : BitVec 32) : BitVec 32 :=
  v3007

def k0_mult392 (i : grid0.Coords) : BitVec 32 :=
  let arg1 : BitVec 32 := BitVec.ofNat 32 (i 1).val
  let c2_i32_1793 : BitVec 32 := 2#32
  let v3001 : BitVec 32 := Scalar.muli arg1 c2_i32_1793
  let c0_i32_1794 : BitVec 32 := 0#32
  let v3002 : BitVec 32 := Scalar.addi v3001 c0_i32_1794
  let c256_i32_1795 : BitVec 32 := 256#32
  let v3003 : BitVec 32 := Scalar.muli v3002 c256_i32_1795
  let c194_i32 : BitVec 32 := 194#32
  let v3004 : BitVec 32 := Scalar.addi v3003 c194_i32
  let c8_i32_1799 : BitVec 32 := 8#32
  let v3009 : BitVec 32 := Scalar.muli v3004 c8_i32_1799
  v3009
def k0_off791 (i : grid0.Coords) : Fin 1 → Nat :=
  let c1_i32_1796 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3005 : BitVec 32 := Scalar.subi c1_i32_1796 v9
  ![v3005.toNat]
def k0_off792 (i : grid0.Coords) : Fin 3 → Nat :=
  let c1_i32_1796 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3005 : BitVec 32 := Scalar.subi c1_i32_1796 v9
  let arg1 : BitVec 32 := BitVec.ofNat 32 (i 1).val
  let c2_i32_1793 : BitVec 32 := 2#32
  let v3001 : BitVec 32 := Scalar.muli arg1 c2_i32_1793
  let c0_i32_1794 : BitVec 32 := 0#32
  let v3002 : BitVec 32 := Scalar.addi v3001 c0_i32_1794
  let c256_i32_1795 : BitVec 32 := 256#32
  let v3003 : BitVec 32 := Scalar.muli v3002 c256_i32_1795
  let c194_i32 : BitVec 32 := 194#32
  let v3004 : BitVec 32 := Scalar.addi v3003 c194_i32
  let c8_i32_1799 : BitVec 32 := 8#32
  let v3009 : BitVec 32 := Scalar.muli v3004 c8_i32_1799
  let v3010 : BitVec 32 := v3009
  let c0_i32_1800 : BitVec 32 := 0#32
  ![v3005.toNat, v3010.toNat, 0]
def k0_off793 (v3007 : BitVec 32) : Fin 2 → Nat :=
  let v3008 : BitVec 32 := v3007
  let c0_i32_1801 : BitVec 32 := 0#32
  ![v3008.toNat, 0]

def k0_chk196 (i : grid0.Coords) (v3007 : BitVec 32) : Prop :=
  (∀ (k0_h2 : k0_cond2 i = 1#1), 8 ∣ (k0_mult391 v3007).toNat) ∧
  (∀ (k0_h2 : k0_cond2 i = 1#1), ∀ a, (k0_off793 v3007) a + S8x128.size a ≤ S131072x128.size a)
theorem k0_mult391_dvd : ∀ (i : grid0.Coords) (v3007 : BitVec 32) (k0_hw196 : k0_chk196 i v3007), ∀ (k0_h2 : k0_cond2 i = 1#1), 8 ∣ (k0_mult391 v3007).toNat := fun i v3007 k0_hw196 k0_h2 => k0_hw196.1 k0_h2
theorem k0_off793_inb : ∀ (i : grid0.Coords) (v3007 : BitVec 32) (k0_hw196 : k0_chk196 i v3007), ∀ (k0_h2 : k0_cond2 i = 1#1), ∀ a, (k0_off793 v3007) a + S8x128.size a ≤ S131072x128.size a := fun i v3007 k0_hw196 k0_h2 => k0_hw196.2 k0_h2

def k0_off794 (i : grid0.Coords) : Fin 3 → Nat :=
  let c0_1806 : Index := 0#32
  let c0_1807 : Index := 0#32
  let arg1 : BitVec 32 := BitVec.ofNat 32 (i 1).val
  let c2_i32_1802 : BitVec 32 := 2#32
  let v3016 : BitVec 32 := Scalar.muli arg1 c2_i32_1802
  let c0_i32_1803 : BitVec 32 := 0#32
  let v3017 : BitVec 32 := Scalar.addi v3016 c0_i32_1803
  let c256_i32_1804 : BitVec 32 := 256#32
  let v3018 : BitVec 32 := Scalar.muli v3017 c256_i32_1804
  let c195_i32 : BitVec 32 := 195#32
  let v3019 : BitVec 32 := Scalar.addi v3018 c195_i32
  let v3021 : Index := Scalar.indexCast v3019
  ![0, 0, v3021.toNat]
def k0_mult393 (v3022 : BitVec 32) : BitVec 32 :=
  v3022

def k0_mult394 (i : grid0.Coords) : BitVec 32 :=
  let arg1 : BitVec 32 := BitVec.ofNat 32 (i 1).val
  let c2_i32_1802 : BitVec 32 := 2#32
  let v3016 : BitVec 32 := Scalar.muli arg1 c2_i32_1802
  let c0_i32_1803 : BitVec 32 := 0#32
  let v3017 : BitVec 32 := Scalar.addi v3016 c0_i32_1803
  let c256_i32_1804 : BitVec 32 := 256#32
  let v3018 : BitVec 32 := Scalar.muli v3017 c256_i32_1804
  let c195_i32 : BitVec 32 := 195#32
  let v3019 : BitVec 32 := Scalar.addi v3018 c195_i32
  let c8_i32_1808 : BitVec 32 := 8#32
  let v3024 : BitVec 32 := Scalar.muli v3019 c8_i32_1808
  v3024
def k0_off795 (i : grid0.Coords) : Fin 1 → Nat :=
  let c1_i32_1805 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3020 : BitVec 32 := Scalar.subi c1_i32_1805 v9
  ![v3020.toNat]
def k0_off796 (i : grid0.Coords) : Fin 3 → Nat :=
  let c1_i32_1805 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3020 : BitVec 32 := Scalar.subi c1_i32_1805 v9
  let arg1 : BitVec 32 := BitVec.ofNat 32 (i 1).val
  let c2_i32_1802 : BitVec 32 := 2#32
  let v3016 : BitVec 32 := Scalar.muli arg1 c2_i32_1802
  let c0_i32_1803 : BitVec 32 := 0#32
  let v3017 : BitVec 32 := Scalar.addi v3016 c0_i32_1803
  let c256_i32_1804 : BitVec 32 := 256#32
  let v3018 : BitVec 32 := Scalar.muli v3017 c256_i32_1804
  let c195_i32 : BitVec 32 := 195#32
  let v3019 : BitVec 32 := Scalar.addi v3018 c195_i32
  let c8_i32_1808 : BitVec 32 := 8#32
  let v3024 : BitVec 32 := Scalar.muli v3019 c8_i32_1808
  let v3025 : BitVec 32 := v3024
  let c0_i32_1809 : BitVec 32 := 0#32
  ![v3020.toNat, v3025.toNat, 0]
def k0_off797 (v3022 : BitVec 32) : Fin 2 → Nat :=
  let v3023 : BitVec 32 := v3022
  let c0_i32_1810 : BitVec 32 := 0#32
  ![v3023.toNat, 0]

def k0_chk197 (i : grid0.Coords) (v3022 : BitVec 32) : Prop :=
  (∀ (k0_h2 : k0_cond2 i = 1#1), 8 ∣ (k0_mult393 v3022).toNat) ∧
  (∀ (k0_h2 : k0_cond2 i = 1#1), ∀ a, (k0_off797 v3022) a + S8x128.size a ≤ S131072x128.size a)
theorem k0_mult393_dvd : ∀ (i : grid0.Coords) (v3022 : BitVec 32) (k0_hw197 : k0_chk197 i v3022), ∀ (k0_h2 : k0_cond2 i = 1#1), 8 ∣ (k0_mult393 v3022).toNat := fun i v3022 k0_hw197 k0_h2 => k0_hw197.1 k0_h2
theorem k0_off797_inb : ∀ (i : grid0.Coords) (v3022 : BitVec 32) (k0_hw197 : k0_chk197 i v3022), ∀ (k0_h2 : k0_cond2 i = 1#1), ∀ a, (k0_off797 v3022) a + S8x128.size a ≤ S131072x128.size a := fun i v3022 k0_hw197 k0_h2 => k0_hw197.2 k0_h2

def k0_off798 (i : grid0.Coords) : Fin 3 → Nat :=
  let c0_1815 : Index := 0#32
  let c0_1816 : Index := 0#32
  let arg1 : BitVec 32 := BitVec.ofNat 32 (i 1).val
  let c2_i32_1811 : BitVec 32 := 2#32
  let v3031 : BitVec 32 := Scalar.muli arg1 c2_i32_1811
  let c0_i32_1812 : BitVec 32 := 0#32
  let v3032 : BitVec 32 := Scalar.addi v3031 c0_i32_1812
  let c256_i32_1813 : BitVec 32 := 256#32
  let v3033 : BitVec 32 := Scalar.muli v3032 c256_i32_1813
  let c196_i32 : BitVec 32 := 196#32
  let v3034 : BitVec 32 := Scalar.addi v3033 c196_i32
  let v3036 : Index := Scalar.indexCast v3034
  ![0, 0, v3036.toNat]
def k0_mult395 (v3037 : BitVec 32) : BitVec 32 :=
  v3037

def k0_mult396 (i : grid0.Coords) : BitVec 32 :=
  let arg1 : BitVec 32 := BitVec.ofNat 32 (i 1).val
  let c2_i32_1811 : BitVec 32 := 2#32
  let v3031 : BitVec 32 := Scalar.muli arg1 c2_i32_1811
  let c0_i32_1812 : BitVec 32 := 0#32
  let v3032 : BitVec 32 := Scalar.addi v3031 c0_i32_1812
  let c256_i32_1813 : BitVec 32 := 256#32
  let v3033 : BitVec 32 := Scalar.muli v3032 c256_i32_1813
  let c196_i32 : BitVec 32 := 196#32
  let v3034 : BitVec 32 := Scalar.addi v3033 c196_i32
  let c8_i32_1817 : BitVec 32 := 8#32
  let v3039 : BitVec 32 := Scalar.muli v3034 c8_i32_1817
  v3039
def k0_off799 (i : grid0.Coords) : Fin 1 → Nat :=
  let c1_i32_1814 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3035 : BitVec 32 := Scalar.subi c1_i32_1814 v9
  ![v3035.toNat]
def k0_off800 (i : grid0.Coords) : Fin 3 → Nat :=
  let c1_i32_1814 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3035 : BitVec 32 := Scalar.subi c1_i32_1814 v9
  let arg1 : BitVec 32 := BitVec.ofNat 32 (i 1).val
  let c2_i32_1811 : BitVec 32 := 2#32
  let v3031 : BitVec 32 := Scalar.muli arg1 c2_i32_1811
  let c0_i32_1812 : BitVec 32 := 0#32
  let v3032 : BitVec 32 := Scalar.addi v3031 c0_i32_1812
  let c256_i32_1813 : BitVec 32 := 256#32
  let v3033 : BitVec 32 := Scalar.muli v3032 c256_i32_1813
  let c196_i32 : BitVec 32 := 196#32
  let v3034 : BitVec 32 := Scalar.addi v3033 c196_i32
  let c8_i32_1817 : BitVec 32 := 8#32
  let v3039 : BitVec 32 := Scalar.muli v3034 c8_i32_1817
  let v3040 : BitVec 32 := v3039
  let c0_i32_1818 : BitVec 32 := 0#32
  ![v3035.toNat, v3040.toNat, 0]
def k0_off801 (v3037 : BitVec 32) : Fin 2 → Nat :=
  let v3038 : BitVec 32 := v3037
  let c0_i32_1819 : BitVec 32 := 0#32
  ![v3038.toNat, 0]

def k0_chk198 (i : grid0.Coords) (v3037 : BitVec 32) : Prop :=
  (∀ (k0_h2 : k0_cond2 i = 1#1), 8 ∣ (k0_mult395 v3037).toNat) ∧
  (∀ (k0_h2 : k0_cond2 i = 1#1), ∀ a, (k0_off801 v3037) a + S8x128.size a ≤ S131072x128.size a)
theorem k0_mult395_dvd : ∀ (i : grid0.Coords) (v3037 : BitVec 32) (k0_hw198 : k0_chk198 i v3037), ∀ (k0_h2 : k0_cond2 i = 1#1), 8 ∣ (k0_mult395 v3037).toNat := fun i v3037 k0_hw198 k0_h2 => k0_hw198.1 k0_h2
theorem k0_off801_inb : ∀ (i : grid0.Coords) (v3037 : BitVec 32) (k0_hw198 : k0_chk198 i v3037), ∀ (k0_h2 : k0_cond2 i = 1#1), ∀ a, (k0_off801 v3037) a + S8x128.size a ≤ S131072x128.size a := fun i v3037 k0_hw198 k0_h2 => k0_hw198.2 k0_h2

def k0_off802 (i : grid0.Coords) : Fin 3 → Nat :=
  let c0_1824 : Index := 0#32
  let c0_1825 : Index := 0#32
  let arg1 : BitVec 32 := BitVec.ofNat 32 (i 1).val
  let c2_i32_1820 : BitVec 32 := 2#32
  let v3046 : BitVec 32 := Scalar.muli arg1 c2_i32_1820
  let c0_i32_1821 : BitVec 32 := 0#32
  let v3047 : BitVec 32 := Scalar.addi v3046 c0_i32_1821
  let c256_i32_1822 : BitVec 32 := 256#32
  let v3048 : BitVec 32 := Scalar.muli v3047 c256_i32_1822
  let c197_i32 : BitVec 32 := 197#32
  let v3049 : BitVec 32 := Scalar.addi v3048 c197_i32
  let v3051 : Index := Scalar.indexCast v3049
  ![0, 0, v3051.toNat]
def k0_mult397 (v3052 : BitVec 32) : BitVec 32 :=
  v3052

def k0_mult398 (i : grid0.Coords) : BitVec 32 :=
  let arg1 : BitVec 32 := BitVec.ofNat 32 (i 1).val
  let c2_i32_1820 : BitVec 32 := 2#32
  let v3046 : BitVec 32 := Scalar.muli arg1 c2_i32_1820
  let c0_i32_1821 : BitVec 32 := 0#32
  let v3047 : BitVec 32 := Scalar.addi v3046 c0_i32_1821
  let c256_i32_1822 : BitVec 32 := 256#32
  let v3048 : BitVec 32 := Scalar.muli v3047 c256_i32_1822
  let c197_i32 : BitVec 32 := 197#32
  let v3049 : BitVec 32 := Scalar.addi v3048 c197_i32
  let c8_i32_1826 : BitVec 32 := 8#32
  let v3054 : BitVec 32 := Scalar.muli v3049 c8_i32_1826
  v3054
def k0_off803 (i : grid0.Coords) : Fin 1 → Nat :=
  let c1_i32_1823 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3050 : BitVec 32 := Scalar.subi c1_i32_1823 v9
  ![v3050.toNat]
def k0_off804 (i : grid0.Coords) : Fin 3 → Nat :=
  let c1_i32_1823 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3050 : BitVec 32 := Scalar.subi c1_i32_1823 v9
  let arg1 : BitVec 32 := BitVec.ofNat 32 (i 1).val
  let c2_i32_1820 : BitVec 32 := 2#32
  let v3046 : BitVec 32 := Scalar.muli arg1 c2_i32_1820
  let c0_i32_1821 : BitVec 32 := 0#32
  let v3047 : BitVec 32 := Scalar.addi v3046 c0_i32_1821
  let c256_i32_1822 : BitVec 32 := 256#32
  let v3048 : BitVec 32 := Scalar.muli v3047 c256_i32_1822
  let c197_i32 : BitVec 32 := 197#32
  let v3049 : BitVec 32 := Scalar.addi v3048 c197_i32
  let c8_i32_1826 : BitVec 32 := 8#32
  let v3054 : BitVec 32 := Scalar.muli v3049 c8_i32_1826
  let v3055 : BitVec 32 := v3054
  let c0_i32_1827 : BitVec 32 := 0#32
  ![v3050.toNat, v3055.toNat, 0]
def k0_off805 (v3052 : BitVec 32) : Fin 2 → Nat :=
  let v3053 : BitVec 32 := v3052
  let c0_i32_1828 : BitVec 32 := 0#32
  ![v3053.toNat, 0]

def k0_chk199 (i : grid0.Coords) (v3052 : BitVec 32) : Prop :=
  (∀ (k0_h2 : k0_cond2 i = 1#1), 8 ∣ (k0_mult397 v3052).toNat) ∧
  (∀ (k0_h2 : k0_cond2 i = 1#1), ∀ a, (k0_off805 v3052) a + S8x128.size a ≤ S131072x128.size a)
theorem k0_mult397_dvd : ∀ (i : grid0.Coords) (v3052 : BitVec 32) (k0_hw199 : k0_chk199 i v3052), ∀ (k0_h2 : k0_cond2 i = 1#1), 8 ∣ (k0_mult397 v3052).toNat := fun i v3052 k0_hw199 k0_h2 => k0_hw199.1 k0_h2
theorem k0_off805_inb : ∀ (i : grid0.Coords) (v3052 : BitVec 32) (k0_hw199 : k0_chk199 i v3052), ∀ (k0_h2 : k0_cond2 i = 1#1), ∀ a, (k0_off805 v3052) a + S8x128.size a ≤ S131072x128.size a := fun i v3052 k0_hw199 k0_h2 => k0_hw199.2 k0_h2

def k0_off806 (i : grid0.Coords) : Fin 3 → Nat :=
  let c0_1833 : Index := 0#32
  let c0_1834 : Index := 0#32
  let arg1 : BitVec 32 := BitVec.ofNat 32 (i 1).val
  let c2_i32_1829 : BitVec 32 := 2#32
  let v3061 : BitVec 32 := Scalar.muli arg1 c2_i32_1829
  let c0_i32_1830 : BitVec 32 := 0#32
  let v3062 : BitVec 32 := Scalar.addi v3061 c0_i32_1830
  let c256_i32_1831 : BitVec 32 := 256#32
  let v3063 : BitVec 32 := Scalar.muli v3062 c256_i32_1831
  let c198_i32 : BitVec 32 := 198#32
  let v3064 : BitVec 32 := Scalar.addi v3063 c198_i32
  let v3066 : Index := Scalar.indexCast v3064
  ![0, 0, v3066.toNat]
def k0_mult399 (v3067 : BitVec 32) : BitVec 32 :=
  v3067

def k0_mult400 (i : grid0.Coords) : BitVec 32 :=
  let arg1 : BitVec 32 := BitVec.ofNat 32 (i 1).val
  let c2_i32_1829 : BitVec 32 := 2#32
  let v3061 : BitVec 32 := Scalar.muli arg1 c2_i32_1829
  let c0_i32_1830 : BitVec 32 := 0#32
  let v3062 : BitVec 32 := Scalar.addi v3061 c0_i32_1830
  let c256_i32_1831 : BitVec 32 := 256#32
  let v3063 : BitVec 32 := Scalar.muli v3062 c256_i32_1831
  let c198_i32 : BitVec 32 := 198#32
  let v3064 : BitVec 32 := Scalar.addi v3063 c198_i32
  let c8_i32_1835 : BitVec 32 := 8#32
  let v3069 : BitVec 32 := Scalar.muli v3064 c8_i32_1835
  v3069
def k0_off807 (i : grid0.Coords) : Fin 1 → Nat :=
  let c1_i32_1832 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3065 : BitVec 32 := Scalar.subi c1_i32_1832 v9
  ![v3065.toNat]
def k0_off808 (i : grid0.Coords) : Fin 3 → Nat :=
  let c1_i32_1832 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3065 : BitVec 32 := Scalar.subi c1_i32_1832 v9
  let arg1 : BitVec 32 := BitVec.ofNat 32 (i 1).val
  let c2_i32_1829 : BitVec 32 := 2#32
  let v3061 : BitVec 32 := Scalar.muli arg1 c2_i32_1829
  let c0_i32_1830 : BitVec 32 := 0#32
  let v3062 : BitVec 32 := Scalar.addi v3061 c0_i32_1830
  let c256_i32_1831 : BitVec 32 := 256#32
  let v3063 : BitVec 32 := Scalar.muli v3062 c256_i32_1831
  let c198_i32 : BitVec 32 := 198#32
  let v3064 : BitVec 32 := Scalar.addi v3063 c198_i32
  let c8_i32_1835 : BitVec 32 := 8#32
  let v3069 : BitVec 32 := Scalar.muli v3064 c8_i32_1835
  let v3070 : BitVec 32 := v3069
  let c0_i32_1836 : BitVec 32 := 0#32
  ![v3065.toNat, v3070.toNat, 0]
def k0_off809 (v3067 : BitVec 32) : Fin 2 → Nat :=
  let v3068 : BitVec 32 := v3067
  let c0_i32_1837 : BitVec 32 := 0#32
  ![v3068.toNat, 0]

def k0_chk200 (i : grid0.Coords) (v3067 : BitVec 32) : Prop :=
  (∀ (k0_h2 : k0_cond2 i = 1#1), 8 ∣ (k0_mult399 v3067).toNat) ∧
  (∀ (k0_h2 : k0_cond2 i = 1#1), ∀ a, (k0_off809 v3067) a + S8x128.size a ≤ S131072x128.size a)
theorem k0_mult399_dvd : ∀ (i : grid0.Coords) (v3067 : BitVec 32) (k0_hw200 : k0_chk200 i v3067), ∀ (k0_h2 : k0_cond2 i = 1#1), 8 ∣ (k0_mult399 v3067).toNat := fun i v3067 k0_hw200 k0_h2 => k0_hw200.1 k0_h2
theorem k0_off809_inb : ∀ (i : grid0.Coords) (v3067 : BitVec 32) (k0_hw200 : k0_chk200 i v3067), ∀ (k0_h2 : k0_cond2 i = 1#1), ∀ a, (k0_off809 v3067) a + S8x128.size a ≤ S131072x128.size a := fun i v3067 k0_hw200 k0_h2 => k0_hw200.2 k0_h2

def k0_off810 (i : grid0.Coords) : Fin 3 → Nat :=
  let c0_1842 : Index := 0#32
  let c0_1843 : Index := 0#32
  let arg1 : BitVec 32 := BitVec.ofNat 32 (i 1).val
  let c2_i32_1838 : BitVec 32 := 2#32
  let v3076 : BitVec 32 := Scalar.muli arg1 c2_i32_1838
  let c0_i32_1839 : BitVec 32 := 0#32
  let v3077 : BitVec 32 := Scalar.addi v3076 c0_i32_1839
  let c256_i32_1840 : BitVec 32 := 256#32
  let v3078 : BitVec 32 := Scalar.muli v3077 c256_i32_1840
  let c199_i32 : BitVec 32 := 199#32
  let v3079 : BitVec 32 := Scalar.addi v3078 c199_i32
  let v3081 : Index := Scalar.indexCast v3079
  ![0, 0, v3081.toNat]
def k0_mult401 (v3082 : BitVec 32) : BitVec 32 :=
  v3082

def k0_mult402 (i : grid0.Coords) : BitVec 32 :=
  let arg1 : BitVec 32 := BitVec.ofNat 32 (i 1).val
  let c2_i32_1838 : BitVec 32 := 2#32
  let v3076 : BitVec 32 := Scalar.muli arg1 c2_i32_1838
  let c0_i32_1839 : BitVec 32 := 0#32
  let v3077 : BitVec 32 := Scalar.addi v3076 c0_i32_1839
  let c256_i32_1840 : BitVec 32 := 256#32
  let v3078 : BitVec 32 := Scalar.muli v3077 c256_i32_1840
  let c199_i32 : BitVec 32 := 199#32
  let v3079 : BitVec 32 := Scalar.addi v3078 c199_i32
  let c8_i32_1844 : BitVec 32 := 8#32
  let v3084 : BitVec 32 := Scalar.muli v3079 c8_i32_1844
  v3084
def k0_off811 (i : grid0.Coords) : Fin 1 → Nat :=
  let c1_i32_1841 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3080 : BitVec 32 := Scalar.subi c1_i32_1841 v9
  ![v3080.toNat]
def k0_off812 (i : grid0.Coords) : Fin 3 → Nat :=
  let c1_i32_1841 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3080 : BitVec 32 := Scalar.subi c1_i32_1841 v9
  let arg1 : BitVec 32 := BitVec.ofNat 32 (i 1).val
  let c2_i32_1838 : BitVec 32 := 2#32
  let v3076 : BitVec 32 := Scalar.muli arg1 c2_i32_1838
  let c0_i32_1839 : BitVec 32 := 0#32
  let v3077 : BitVec 32 := Scalar.addi v3076 c0_i32_1839
  let c256_i32_1840 : BitVec 32 := 256#32
  let v3078 : BitVec 32 := Scalar.muli v3077 c256_i32_1840
  let c199_i32 : BitVec 32 := 199#32
  let v3079 : BitVec 32 := Scalar.addi v3078 c199_i32
  let c8_i32_1844 : BitVec 32 := 8#32
  let v3084 : BitVec 32 := Scalar.muli v3079 c8_i32_1844
  let v3085 : BitVec 32 := v3084
  let c0_i32_1845 : BitVec 32 := 0#32
  ![v3080.toNat, v3085.toNat, 0]
def k0_off813 (v3082 : BitVec 32) : Fin 2 → Nat :=
  let v3083 : BitVec 32 := v3082
  let c0_i32_1846 : BitVec 32 := 0#32
  ![v3083.toNat, 0]

def k0_chk201 (i : grid0.Coords) (v3082 : BitVec 32) : Prop :=
  (∀ (k0_h2 : k0_cond2 i = 1#1), 8 ∣ (k0_mult401 v3082).toNat) ∧
  (∀ (k0_h2 : k0_cond2 i = 1#1), ∀ a, (k0_off813 v3082) a + S8x128.size a ≤ S131072x128.size a)
theorem k0_mult401_dvd : ∀ (i : grid0.Coords) (v3082 : BitVec 32) (k0_hw201 : k0_chk201 i v3082), ∀ (k0_h2 : k0_cond2 i = 1#1), 8 ∣ (k0_mult401 v3082).toNat := fun i v3082 k0_hw201 k0_h2 => k0_hw201.1 k0_h2
theorem k0_off813_inb : ∀ (i : grid0.Coords) (v3082 : BitVec 32) (k0_hw201 : k0_chk201 i v3082), ∀ (k0_h2 : k0_cond2 i = 1#1), ∀ a, (k0_off813 v3082) a + S8x128.size a ≤ S131072x128.size a := fun i v3082 k0_hw201 k0_h2 => k0_hw201.2 k0_h2

def k0_off814 (i : grid0.Coords) : Fin 3 → Nat :=
  let c0_1851 : Index := 0#32
  let c0_1852 : Index := 0#32
  let arg1 : BitVec 32 := BitVec.ofNat 32 (i 1).val
  let c2_i32_1847 : BitVec 32 := 2#32
  let v3091 : BitVec 32 := Scalar.muli arg1 c2_i32_1847
  let c0_i32_1848 : BitVec 32 := 0#32
  let v3092 : BitVec 32 := Scalar.addi v3091 c0_i32_1848
  let c256_i32_1849 : BitVec 32 := 256#32
  let v3093 : BitVec 32 := Scalar.muli v3092 c256_i32_1849
  let c200_i32 : BitVec 32 := 200#32
  let v3094 : BitVec 32 := Scalar.addi v3093 c200_i32
  let v3096 : Index := Scalar.indexCast v3094
  ![0, 0, v3096.toNat]
def k0_mult403 (v3097 : BitVec 32) : BitVec 32 :=
  v3097

def k0_mult404 (i : grid0.Coords) : BitVec 32 :=
  let arg1 : BitVec 32 := BitVec.ofNat 32 (i 1).val
  let c2_i32_1847 : BitVec 32 := 2#32
  let v3091 : BitVec 32 := Scalar.muli arg1 c2_i32_1847
  let c0_i32_1848 : BitVec 32 := 0#32
  let v3092 : BitVec 32 := Scalar.addi v3091 c0_i32_1848
  let c256_i32_1849 : BitVec 32 := 256#32
  let v3093 : BitVec 32 := Scalar.muli v3092 c256_i32_1849
  let c200_i32 : BitVec 32 := 200#32
  let v3094 : BitVec 32 := Scalar.addi v3093 c200_i32
  let c8_i32_1853 : BitVec 32 := 8#32
  let v3099 : BitVec 32 := Scalar.muli v3094 c8_i32_1853
  v3099
def k0_off815 (i : grid0.Coords) : Fin 1 → Nat :=
  let c1_i32_1850 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3095 : BitVec 32 := Scalar.subi c1_i32_1850 v9
  ![v3095.toNat]
def k0_off816 (i : grid0.Coords) : Fin 3 → Nat :=
  let c1_i32_1850 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3095 : BitVec 32 := Scalar.subi c1_i32_1850 v9
  let arg1 : BitVec 32 := BitVec.ofNat 32 (i 1).val
  let c2_i32_1847 : BitVec 32 := 2#32
  let v3091 : BitVec 32 := Scalar.muli arg1 c2_i32_1847
  let c0_i32_1848 : BitVec 32 := 0#32
  let v3092 : BitVec 32 := Scalar.addi v3091 c0_i32_1848
  let c256_i32_1849 : BitVec 32 := 256#32
  let v3093 : BitVec 32 := Scalar.muli v3092 c256_i32_1849
  let c200_i32 : BitVec 32 := 200#32
  let v3094 : BitVec 32 := Scalar.addi v3093 c200_i32
  let c8_i32_1853 : BitVec 32 := 8#32
  let v3099 : BitVec 32 := Scalar.muli v3094 c8_i32_1853
  let v3100 : BitVec 32 := v3099
  let c0_i32_1854 : BitVec 32 := 0#32
  ![v3095.toNat, v3100.toNat, 0]
def k0_off817 (v3097 : BitVec 32) : Fin 2 → Nat :=
  let v3098 : BitVec 32 := v3097
  let c0_i32_1855 : BitVec 32 := 0#32
  ![v3098.toNat, 0]

def k0_chk202 (i : grid0.Coords) (v3097 : BitVec 32) : Prop :=
  (∀ (k0_h2 : k0_cond2 i = 1#1), 8 ∣ (k0_mult403 v3097).toNat) ∧
  (∀ (k0_h2 : k0_cond2 i = 1#1), ∀ a, (k0_off817 v3097) a + S8x128.size a ≤ S131072x128.size a)
theorem k0_mult403_dvd : ∀ (i : grid0.Coords) (v3097 : BitVec 32) (k0_hw202 : k0_chk202 i v3097), ∀ (k0_h2 : k0_cond2 i = 1#1), 8 ∣ (k0_mult403 v3097).toNat := fun i v3097 k0_hw202 k0_h2 => k0_hw202.1 k0_h2
theorem k0_off817_inb : ∀ (i : grid0.Coords) (v3097 : BitVec 32) (k0_hw202 : k0_chk202 i v3097), ∀ (k0_h2 : k0_cond2 i = 1#1), ∀ a, (k0_off817 v3097) a + S8x128.size a ≤ S131072x128.size a := fun i v3097 k0_hw202 k0_h2 => k0_hw202.2 k0_h2

def k0_off818 (i : grid0.Coords) : Fin 3 → Nat :=
  let c0_1860 : Index := 0#32
  let c0_1861 : Index := 0#32
  let arg1 : BitVec 32 := BitVec.ofNat 32 (i 1).val
  let c2_i32_1856 : BitVec 32 := 2#32
  let v3106 : BitVec 32 := Scalar.muli arg1 c2_i32_1856
  let c0_i32_1857 : BitVec 32 := 0#32
  let v3107 : BitVec 32 := Scalar.addi v3106 c0_i32_1857
  let c256_i32_1858 : BitVec 32 := 256#32
  let v3108 : BitVec 32 := Scalar.muli v3107 c256_i32_1858
  let c201_i32 : BitVec 32 := 201#32
  let v3109 : BitVec 32 := Scalar.addi v3108 c201_i32
  let v3111 : Index := Scalar.indexCast v3109
  ![0, 0, v3111.toNat]
def k0_mult405 (v3112 : BitVec 32) : BitVec 32 :=
  v3112

def k0_mult406 (i : grid0.Coords) : BitVec 32 :=
  let arg1 : BitVec 32 := BitVec.ofNat 32 (i 1).val
  let c2_i32_1856 : BitVec 32 := 2#32
  let v3106 : BitVec 32 := Scalar.muli arg1 c2_i32_1856
  let c0_i32_1857 : BitVec 32 := 0#32
  let v3107 : BitVec 32 := Scalar.addi v3106 c0_i32_1857
  let c256_i32_1858 : BitVec 32 := 256#32
  let v3108 : BitVec 32 := Scalar.muli v3107 c256_i32_1858
  let c201_i32 : BitVec 32 := 201#32
  let v3109 : BitVec 32 := Scalar.addi v3108 c201_i32
  let c8_i32_1862 : BitVec 32 := 8#32
  let v3114 : BitVec 32 := Scalar.muli v3109 c8_i32_1862
  v3114
def k0_off819 (i : grid0.Coords) : Fin 1 → Nat :=
  let c1_i32_1859 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3110 : BitVec 32 := Scalar.subi c1_i32_1859 v9
  ![v3110.toNat]
def k0_off820 (i : grid0.Coords) : Fin 3 → Nat :=
  let c1_i32_1859 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3110 : BitVec 32 := Scalar.subi c1_i32_1859 v9
  let arg1 : BitVec 32 := BitVec.ofNat 32 (i 1).val
  let c2_i32_1856 : BitVec 32 := 2#32
  let v3106 : BitVec 32 := Scalar.muli arg1 c2_i32_1856
  let c0_i32_1857 : BitVec 32 := 0#32
  let v3107 : BitVec 32 := Scalar.addi v3106 c0_i32_1857
  let c256_i32_1858 : BitVec 32 := 256#32
  let v3108 : BitVec 32 := Scalar.muli v3107 c256_i32_1858
  let c201_i32 : BitVec 32 := 201#32
  let v3109 : BitVec 32 := Scalar.addi v3108 c201_i32
  let c8_i32_1862 : BitVec 32 := 8#32
  let v3114 : BitVec 32 := Scalar.muli v3109 c8_i32_1862
  let v3115 : BitVec 32 := v3114
  let c0_i32_1863 : BitVec 32 := 0#32
  ![v3110.toNat, v3115.toNat, 0]
def k0_off821 (v3112 : BitVec 32) : Fin 2 → Nat :=
  let v3113 : BitVec 32 := v3112
  let c0_i32_1864 : BitVec 32 := 0#32
  ![v3113.toNat, 0]

def k0_chk203 (i : grid0.Coords) (v3112 : BitVec 32) : Prop :=
  (∀ (k0_h2 : k0_cond2 i = 1#1), 8 ∣ (k0_mult405 v3112).toNat) ∧
  (∀ (k0_h2 : k0_cond2 i = 1#1), ∀ a, (k0_off821 v3112) a + S8x128.size a ≤ S131072x128.size a)
theorem k0_mult405_dvd : ∀ (i : grid0.Coords) (v3112 : BitVec 32) (k0_hw203 : k0_chk203 i v3112), ∀ (k0_h2 : k0_cond2 i = 1#1), 8 ∣ (k0_mult405 v3112).toNat := fun i v3112 k0_hw203 k0_h2 => k0_hw203.1 k0_h2
theorem k0_off821_inb : ∀ (i : grid0.Coords) (v3112 : BitVec 32) (k0_hw203 : k0_chk203 i v3112), ∀ (k0_h2 : k0_cond2 i = 1#1), ∀ a, (k0_off821 v3112) a + S8x128.size a ≤ S131072x128.size a := fun i v3112 k0_hw203 k0_h2 => k0_hw203.2 k0_h2

def k0_off822 (i : grid0.Coords) : Fin 3 → Nat :=
  let c0_1869 : Index := 0#32
  let c0_1870 : Index := 0#32
  let arg1 : BitVec 32 := BitVec.ofNat 32 (i 1).val
  let c2_i32_1865 : BitVec 32 := 2#32
  let v3121 : BitVec 32 := Scalar.muli arg1 c2_i32_1865
  let c0_i32_1866 : BitVec 32 := 0#32
  let v3122 : BitVec 32 := Scalar.addi v3121 c0_i32_1866
  let c256_i32_1867 : BitVec 32 := 256#32
  let v3123 : BitVec 32 := Scalar.muli v3122 c256_i32_1867
  let c202_i32 : BitVec 32 := 202#32
  let v3124 : BitVec 32 := Scalar.addi v3123 c202_i32
  let v3126 : Index := Scalar.indexCast v3124
  ![0, 0, v3126.toNat]
def k0_mult407 (v3127 : BitVec 32) : BitVec 32 :=
  v3127

def k0_mult408 (i : grid0.Coords) : BitVec 32 :=
  let arg1 : BitVec 32 := BitVec.ofNat 32 (i 1).val
  let c2_i32_1865 : BitVec 32 := 2#32
  let v3121 : BitVec 32 := Scalar.muli arg1 c2_i32_1865
  let c0_i32_1866 : BitVec 32 := 0#32
  let v3122 : BitVec 32 := Scalar.addi v3121 c0_i32_1866
  let c256_i32_1867 : BitVec 32 := 256#32
  let v3123 : BitVec 32 := Scalar.muli v3122 c256_i32_1867
  let c202_i32 : BitVec 32 := 202#32
  let v3124 : BitVec 32 := Scalar.addi v3123 c202_i32
  let c8_i32_1871 : BitVec 32 := 8#32
  let v3129 : BitVec 32 := Scalar.muli v3124 c8_i32_1871
  v3129
def k0_off823 (i : grid0.Coords) : Fin 1 → Nat :=
  let c1_i32_1868 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3125 : BitVec 32 := Scalar.subi c1_i32_1868 v9
  ![v3125.toNat]
def k0_off824 (i : grid0.Coords) : Fin 3 → Nat :=
  let c1_i32_1868 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3125 : BitVec 32 := Scalar.subi c1_i32_1868 v9
  let arg1 : BitVec 32 := BitVec.ofNat 32 (i 1).val
  let c2_i32_1865 : BitVec 32 := 2#32
  let v3121 : BitVec 32 := Scalar.muli arg1 c2_i32_1865
  let c0_i32_1866 : BitVec 32 := 0#32
  let v3122 : BitVec 32 := Scalar.addi v3121 c0_i32_1866
  let c256_i32_1867 : BitVec 32 := 256#32
  let v3123 : BitVec 32 := Scalar.muli v3122 c256_i32_1867
  let c202_i32 : BitVec 32 := 202#32
  let v3124 : BitVec 32 := Scalar.addi v3123 c202_i32
  let c8_i32_1871 : BitVec 32 := 8#32
  let v3129 : BitVec 32 := Scalar.muli v3124 c8_i32_1871
  let v3130 : BitVec 32 := v3129
  let c0_i32_1872 : BitVec 32 := 0#32
  ![v3125.toNat, v3130.toNat, 0]
def k0_off825 (v3127 : BitVec 32) : Fin 2 → Nat :=
  let v3128 : BitVec 32 := v3127
  let c0_i32_1873 : BitVec 32 := 0#32
  ![v3128.toNat, 0]

def k0_chk204 (i : grid0.Coords) (v3127 : BitVec 32) : Prop :=
  (∀ (k0_h2 : k0_cond2 i = 1#1), 8 ∣ (k0_mult407 v3127).toNat) ∧
  (∀ (k0_h2 : k0_cond2 i = 1#1), ∀ a, (k0_off825 v3127) a + S8x128.size a ≤ S131072x128.size a)
theorem k0_mult407_dvd : ∀ (i : grid0.Coords) (v3127 : BitVec 32) (k0_hw204 : k0_chk204 i v3127), ∀ (k0_h2 : k0_cond2 i = 1#1), 8 ∣ (k0_mult407 v3127).toNat := fun i v3127 k0_hw204 k0_h2 => k0_hw204.1 k0_h2
theorem k0_off825_inb : ∀ (i : grid0.Coords) (v3127 : BitVec 32) (k0_hw204 : k0_chk204 i v3127), ∀ (k0_h2 : k0_cond2 i = 1#1), ∀ a, (k0_off825 v3127) a + S8x128.size a ≤ S131072x128.size a := fun i v3127 k0_hw204 k0_h2 => k0_hw204.2 k0_h2

def k0_off826 (i : grid0.Coords) : Fin 3 → Nat :=
  let c0_1878 : Index := 0#32
  let c0_1879 : Index := 0#32
  let arg1 : BitVec 32 := BitVec.ofNat 32 (i 1).val
  let c2_i32_1874 : BitVec 32 := 2#32
  let v3136 : BitVec 32 := Scalar.muli arg1 c2_i32_1874
  let c0_i32_1875 : BitVec 32 := 0#32
  let v3137 : BitVec 32 := Scalar.addi v3136 c0_i32_1875
  let c256_i32_1876 : BitVec 32 := 256#32
  let v3138 : BitVec 32 := Scalar.muli v3137 c256_i32_1876
  let c203_i32 : BitVec 32 := 203#32
  let v3139 : BitVec 32 := Scalar.addi v3138 c203_i32
  let v3141 : Index := Scalar.indexCast v3139
  ![0, 0, v3141.toNat]
def k0_mult409 (v3142 : BitVec 32) : BitVec 32 :=
  v3142

def k0_mult410 (i : grid0.Coords) : BitVec 32 :=
  let arg1 : BitVec 32 := BitVec.ofNat 32 (i 1).val
  let c2_i32_1874 : BitVec 32 := 2#32
  let v3136 : BitVec 32 := Scalar.muli arg1 c2_i32_1874
  let c0_i32_1875 : BitVec 32 := 0#32
  let v3137 : BitVec 32 := Scalar.addi v3136 c0_i32_1875
  let c256_i32_1876 : BitVec 32 := 256#32
  let v3138 : BitVec 32 := Scalar.muli v3137 c256_i32_1876
  let c203_i32 : BitVec 32 := 203#32
  let v3139 : BitVec 32 := Scalar.addi v3138 c203_i32
  let c8_i32_1880 : BitVec 32 := 8#32
  let v3144 : BitVec 32 := Scalar.muli v3139 c8_i32_1880
  v3144
def k0_off827 (i : grid0.Coords) : Fin 1 → Nat :=
  let c1_i32_1877 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3140 : BitVec 32 := Scalar.subi c1_i32_1877 v9
  ![v3140.toNat]
def k0_off828 (i : grid0.Coords) : Fin 3 → Nat :=
  let c1_i32_1877 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3140 : BitVec 32 := Scalar.subi c1_i32_1877 v9
  let arg1 : BitVec 32 := BitVec.ofNat 32 (i 1).val
  let c2_i32_1874 : BitVec 32 := 2#32
  let v3136 : BitVec 32 := Scalar.muli arg1 c2_i32_1874
  let c0_i32_1875 : BitVec 32 := 0#32
  let v3137 : BitVec 32 := Scalar.addi v3136 c0_i32_1875
  let c256_i32_1876 : BitVec 32 := 256#32
  let v3138 : BitVec 32 := Scalar.muli v3137 c256_i32_1876
  let c203_i32 : BitVec 32 := 203#32
  let v3139 : BitVec 32 := Scalar.addi v3138 c203_i32
  let c8_i32_1880 : BitVec 32 := 8#32
  let v3144 : BitVec 32 := Scalar.muli v3139 c8_i32_1880
  let v3145 : BitVec 32 := v3144
  let c0_i32_1881 : BitVec 32 := 0#32
  ![v3140.toNat, v3145.toNat, 0]
def k0_off829 (v3142 : BitVec 32) : Fin 2 → Nat :=
  let v3143 : BitVec 32 := v3142
  let c0_i32_1882 : BitVec 32 := 0#32
  ![v3143.toNat, 0]

def k0_chk205 (i : grid0.Coords) (v3142 : BitVec 32) : Prop :=
  (∀ (k0_h2 : k0_cond2 i = 1#1), 8 ∣ (k0_mult409 v3142).toNat) ∧
  (∀ (k0_h2 : k0_cond2 i = 1#1), ∀ a, (k0_off829 v3142) a + S8x128.size a ≤ S131072x128.size a)
theorem k0_mult409_dvd : ∀ (i : grid0.Coords) (v3142 : BitVec 32) (k0_hw205 : k0_chk205 i v3142), ∀ (k0_h2 : k0_cond2 i = 1#1), 8 ∣ (k0_mult409 v3142).toNat := fun i v3142 k0_hw205 k0_h2 => k0_hw205.1 k0_h2
theorem k0_off829_inb : ∀ (i : grid0.Coords) (v3142 : BitVec 32) (k0_hw205 : k0_chk205 i v3142), ∀ (k0_h2 : k0_cond2 i = 1#1), ∀ a, (k0_off829 v3142) a + S8x128.size a ≤ S131072x128.size a := fun i v3142 k0_hw205 k0_h2 => k0_hw205.2 k0_h2

def k0_off830 (i : grid0.Coords) : Fin 3 → Nat :=
  let c0_1887 : Index := 0#32
  let c0_1888 : Index := 0#32
  let arg1 : BitVec 32 := BitVec.ofNat 32 (i 1).val
  let c2_i32_1883 : BitVec 32 := 2#32
  let v3151 : BitVec 32 := Scalar.muli arg1 c2_i32_1883
  let c0_i32_1884 : BitVec 32 := 0#32
  let v3152 : BitVec 32 := Scalar.addi v3151 c0_i32_1884
  let c256_i32_1885 : BitVec 32 := 256#32
  let v3153 : BitVec 32 := Scalar.muli v3152 c256_i32_1885
  let c204_i32 : BitVec 32 := 204#32
  let v3154 : BitVec 32 := Scalar.addi v3153 c204_i32
  let v3156 : Index := Scalar.indexCast v3154
  ![0, 0, v3156.toNat]
def k0_mult411 (v3157 : BitVec 32) : BitVec 32 :=
  v3157

def k0_mult412 (i : grid0.Coords) : BitVec 32 :=
  let arg1 : BitVec 32 := BitVec.ofNat 32 (i 1).val
  let c2_i32_1883 : BitVec 32 := 2#32
  let v3151 : BitVec 32 := Scalar.muli arg1 c2_i32_1883
  let c0_i32_1884 : BitVec 32 := 0#32
  let v3152 : BitVec 32 := Scalar.addi v3151 c0_i32_1884
  let c256_i32_1885 : BitVec 32 := 256#32
  let v3153 : BitVec 32 := Scalar.muli v3152 c256_i32_1885
  let c204_i32 : BitVec 32 := 204#32
  let v3154 : BitVec 32 := Scalar.addi v3153 c204_i32
  let c8_i32_1889 : BitVec 32 := 8#32
  let v3159 : BitVec 32 := Scalar.muli v3154 c8_i32_1889
  v3159
def k0_off831 (i : grid0.Coords) : Fin 1 → Nat :=
  let c1_i32_1886 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3155 : BitVec 32 := Scalar.subi c1_i32_1886 v9
  ![v3155.toNat]
def k0_off832 (i : grid0.Coords) : Fin 3 → Nat :=
  let c1_i32_1886 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3155 : BitVec 32 := Scalar.subi c1_i32_1886 v9
  let arg1 : BitVec 32 := BitVec.ofNat 32 (i 1).val
  let c2_i32_1883 : BitVec 32 := 2#32
  let v3151 : BitVec 32 := Scalar.muli arg1 c2_i32_1883
  let c0_i32_1884 : BitVec 32 := 0#32
  let v3152 : BitVec 32 := Scalar.addi v3151 c0_i32_1884
  let c256_i32_1885 : BitVec 32 := 256#32
  let v3153 : BitVec 32 := Scalar.muli v3152 c256_i32_1885
  let c204_i32 : BitVec 32 := 204#32
  let v3154 : BitVec 32 := Scalar.addi v3153 c204_i32
  let c8_i32_1889 : BitVec 32 := 8#32
  let v3159 : BitVec 32 := Scalar.muli v3154 c8_i32_1889
  let v3160 : BitVec 32 := v3159
  let c0_i32_1890 : BitVec 32 := 0#32
  ![v3155.toNat, v3160.toNat, 0]
def k0_off833 (v3157 : BitVec 32) : Fin 2 → Nat :=
  let v3158 : BitVec 32 := v3157
  let c0_i32_1891 : BitVec 32 := 0#32
  ![v3158.toNat, 0]

def k0_chk206 (i : grid0.Coords) (v3157 : BitVec 32) : Prop :=
  (∀ (k0_h2 : k0_cond2 i = 1#1), 8 ∣ (k0_mult411 v3157).toNat) ∧
  (∀ (k0_h2 : k0_cond2 i = 1#1), ∀ a, (k0_off833 v3157) a + S8x128.size a ≤ S131072x128.size a)
theorem k0_mult411_dvd : ∀ (i : grid0.Coords) (v3157 : BitVec 32) (k0_hw206 : k0_chk206 i v3157), ∀ (k0_h2 : k0_cond2 i = 1#1), 8 ∣ (k0_mult411 v3157).toNat := fun i v3157 k0_hw206 k0_h2 => k0_hw206.1 k0_h2
theorem k0_off833_inb : ∀ (i : grid0.Coords) (v3157 : BitVec 32) (k0_hw206 : k0_chk206 i v3157), ∀ (k0_h2 : k0_cond2 i = 1#1), ∀ a, (k0_off833 v3157) a + S8x128.size a ≤ S131072x128.size a := fun i v3157 k0_hw206 k0_h2 => k0_hw206.2 k0_h2

def k0_off834 (i : grid0.Coords) : Fin 3 → Nat :=
  let c0_1896 : Index := 0#32
  let c0_1897 : Index := 0#32
  let arg1 : BitVec 32 := BitVec.ofNat 32 (i 1).val
  let c2_i32_1892 : BitVec 32 := 2#32
  let v3166 : BitVec 32 := Scalar.muli arg1 c2_i32_1892
  let c0_i32_1893 : BitVec 32 := 0#32
  let v3167 : BitVec 32 := Scalar.addi v3166 c0_i32_1893
  let c256_i32_1894 : BitVec 32 := 256#32
  let v3168 : BitVec 32 := Scalar.muli v3167 c256_i32_1894
  let c205_i32 : BitVec 32 := 205#32
  let v3169 : BitVec 32 := Scalar.addi v3168 c205_i32
  let v3171 : Index := Scalar.indexCast v3169
  ![0, 0, v3171.toNat]
def k0_mult413 (v3172 : BitVec 32) : BitVec 32 :=
  v3172

def k0_mult414 (i : grid0.Coords) : BitVec 32 :=
  let arg1 : BitVec 32 := BitVec.ofNat 32 (i 1).val
  let c2_i32_1892 : BitVec 32 := 2#32
  let v3166 : BitVec 32 := Scalar.muli arg1 c2_i32_1892
  let c0_i32_1893 : BitVec 32 := 0#32
  let v3167 : BitVec 32 := Scalar.addi v3166 c0_i32_1893
  let c256_i32_1894 : BitVec 32 := 256#32
  let v3168 : BitVec 32 := Scalar.muli v3167 c256_i32_1894
  let c205_i32 : BitVec 32 := 205#32
  let v3169 : BitVec 32 := Scalar.addi v3168 c205_i32
  let c8_i32_1898 : BitVec 32 := 8#32
  let v3174 : BitVec 32 := Scalar.muli v3169 c8_i32_1898
  v3174
def k0_off835 (i : grid0.Coords) : Fin 1 → Nat :=
  let c1_i32_1895 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3170 : BitVec 32 := Scalar.subi c1_i32_1895 v9
  ![v3170.toNat]
def k0_off836 (i : grid0.Coords) : Fin 3 → Nat :=
  let c1_i32_1895 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3170 : BitVec 32 := Scalar.subi c1_i32_1895 v9
  let arg1 : BitVec 32 := BitVec.ofNat 32 (i 1).val
  let c2_i32_1892 : BitVec 32 := 2#32
  let v3166 : BitVec 32 := Scalar.muli arg1 c2_i32_1892
  let c0_i32_1893 : BitVec 32 := 0#32
  let v3167 : BitVec 32 := Scalar.addi v3166 c0_i32_1893
  let c256_i32_1894 : BitVec 32 := 256#32
  let v3168 : BitVec 32 := Scalar.muli v3167 c256_i32_1894
  let c205_i32 : BitVec 32 := 205#32
  let v3169 : BitVec 32 := Scalar.addi v3168 c205_i32
  let c8_i32_1898 : BitVec 32 := 8#32
  let v3174 : BitVec 32 := Scalar.muli v3169 c8_i32_1898
  let v3175 : BitVec 32 := v3174
  let c0_i32_1899 : BitVec 32 := 0#32
  ![v3170.toNat, v3175.toNat, 0]
def k0_off837 (v3172 : BitVec 32) : Fin 2 → Nat :=
  let v3173 : BitVec 32 := v3172
  let c0_i32_1900 : BitVec 32 := 0#32
  ![v3173.toNat, 0]

def k0_chk207 (i : grid0.Coords) (v3172 : BitVec 32) : Prop :=
  (∀ (k0_h2 : k0_cond2 i = 1#1), 8 ∣ (k0_mult413 v3172).toNat) ∧
  (∀ (k0_h2 : k0_cond2 i = 1#1), ∀ a, (k0_off837 v3172) a + S8x128.size a ≤ S131072x128.size a)
theorem k0_mult413_dvd : ∀ (i : grid0.Coords) (v3172 : BitVec 32) (k0_hw207 : k0_chk207 i v3172), ∀ (k0_h2 : k0_cond2 i = 1#1), 8 ∣ (k0_mult413 v3172).toNat := fun i v3172 k0_hw207 k0_h2 => k0_hw207.1 k0_h2
theorem k0_off837_inb : ∀ (i : grid0.Coords) (v3172 : BitVec 32) (k0_hw207 : k0_chk207 i v3172), ∀ (k0_h2 : k0_cond2 i = 1#1), ∀ a, (k0_off837 v3172) a + S8x128.size a ≤ S131072x128.size a := fun i v3172 k0_hw207 k0_h2 => k0_hw207.2 k0_h2

def k0_off838 (i : grid0.Coords) : Fin 3 → Nat :=
  let c0_1905 : Index := 0#32
  let c0_1906 : Index := 0#32
  let arg1 : BitVec 32 := BitVec.ofNat 32 (i 1).val
  let c2_i32_1901 : BitVec 32 := 2#32
  let v3181 : BitVec 32 := Scalar.muli arg1 c2_i32_1901
  let c0_i32_1902 : BitVec 32 := 0#32
  let v3182 : BitVec 32 := Scalar.addi v3181 c0_i32_1902
  let c256_i32_1903 : BitVec 32 := 256#32
  let v3183 : BitVec 32 := Scalar.muli v3182 c256_i32_1903
  let c206_i32 : BitVec 32 := 206#32
  let v3184 : BitVec 32 := Scalar.addi v3183 c206_i32
  let v3186 : Index := Scalar.indexCast v3184
  ![0, 0, v3186.toNat]
def k0_mult415 (v3187 : BitVec 32) : BitVec 32 :=
  v3187

def k0_mult416 (i : grid0.Coords) : BitVec 32 :=
  let arg1 : BitVec 32 := BitVec.ofNat 32 (i 1).val
  let c2_i32_1901 : BitVec 32 := 2#32
  let v3181 : BitVec 32 := Scalar.muli arg1 c2_i32_1901
  let c0_i32_1902 : BitVec 32 := 0#32
  let v3182 : BitVec 32 := Scalar.addi v3181 c0_i32_1902
  let c256_i32_1903 : BitVec 32 := 256#32
  let v3183 : BitVec 32 := Scalar.muli v3182 c256_i32_1903
  let c206_i32 : BitVec 32 := 206#32
  let v3184 : BitVec 32 := Scalar.addi v3183 c206_i32
  let c8_i32_1907 : BitVec 32 := 8#32
  let v3189 : BitVec 32 := Scalar.muli v3184 c8_i32_1907
  v3189
def k0_off839 (i : grid0.Coords) : Fin 1 → Nat :=
  let c1_i32_1904 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3185 : BitVec 32 := Scalar.subi c1_i32_1904 v9
  ![v3185.toNat]
def k0_off840 (i : grid0.Coords) : Fin 3 → Nat :=
  let c1_i32_1904 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3185 : BitVec 32 := Scalar.subi c1_i32_1904 v9
  let arg1 : BitVec 32 := BitVec.ofNat 32 (i 1).val
  let c2_i32_1901 : BitVec 32 := 2#32
  let v3181 : BitVec 32 := Scalar.muli arg1 c2_i32_1901
  let c0_i32_1902 : BitVec 32 := 0#32
  let v3182 : BitVec 32 := Scalar.addi v3181 c0_i32_1902
  let c256_i32_1903 : BitVec 32 := 256#32
  let v3183 : BitVec 32 := Scalar.muli v3182 c256_i32_1903
  let c206_i32 : BitVec 32 := 206#32
  let v3184 : BitVec 32 := Scalar.addi v3183 c206_i32
  let c8_i32_1907 : BitVec 32 := 8#32
  let v3189 : BitVec 32 := Scalar.muli v3184 c8_i32_1907
  let v3190 : BitVec 32 := v3189
  let c0_i32_1908 : BitVec 32 := 0#32
  ![v3185.toNat, v3190.toNat, 0]
def k0_off841 (v3187 : BitVec 32) : Fin 2 → Nat :=
  let v3188 : BitVec 32 := v3187
  let c0_i32_1909 : BitVec 32 := 0#32
  ![v3188.toNat, 0]

def k0_chk208 (i : grid0.Coords) (v3187 : BitVec 32) : Prop :=
  (∀ (k0_h2 : k0_cond2 i = 1#1), 8 ∣ (k0_mult415 v3187).toNat) ∧
  (∀ (k0_h2 : k0_cond2 i = 1#1), ∀ a, (k0_off841 v3187) a + S8x128.size a ≤ S131072x128.size a)
theorem k0_mult415_dvd : ∀ (i : grid0.Coords) (v3187 : BitVec 32) (k0_hw208 : k0_chk208 i v3187), ∀ (k0_h2 : k0_cond2 i = 1#1), 8 ∣ (k0_mult415 v3187).toNat := fun i v3187 k0_hw208 k0_h2 => k0_hw208.1 k0_h2
theorem k0_off841_inb : ∀ (i : grid0.Coords) (v3187 : BitVec 32) (k0_hw208 : k0_chk208 i v3187), ∀ (k0_h2 : k0_cond2 i = 1#1), ∀ a, (k0_off841 v3187) a + S8x128.size a ≤ S131072x128.size a := fun i v3187 k0_hw208 k0_h2 => k0_hw208.2 k0_h2

def k0_off842 (i : grid0.Coords) : Fin 3 → Nat :=
  let c0_1914 : Index := 0#32
  let c0_1915 : Index := 0#32
  let arg1 : BitVec 32 := BitVec.ofNat 32 (i 1).val
  let c2_i32_1910 : BitVec 32 := 2#32
  let v3196 : BitVec 32 := Scalar.muli arg1 c2_i32_1910
  let c0_i32_1911 : BitVec 32 := 0#32
  let v3197 : BitVec 32 := Scalar.addi v3196 c0_i32_1911
  let c256_i32_1912 : BitVec 32 := 256#32
  let v3198 : BitVec 32 := Scalar.muli v3197 c256_i32_1912
  let c207_i32 : BitVec 32 := 207#32
  let v3199 : BitVec 32 := Scalar.addi v3198 c207_i32
  let v3201 : Index := Scalar.indexCast v3199
  ![0, 0, v3201.toNat]
def k0_mult417 (v3202 : BitVec 32) : BitVec 32 :=
  v3202

def k0_mult418 (i : grid0.Coords) : BitVec 32 :=
  let arg1 : BitVec 32 := BitVec.ofNat 32 (i 1).val
  let c2_i32_1910 : BitVec 32 := 2#32
  let v3196 : BitVec 32 := Scalar.muli arg1 c2_i32_1910
  let c0_i32_1911 : BitVec 32 := 0#32
  let v3197 : BitVec 32 := Scalar.addi v3196 c0_i32_1911
  let c256_i32_1912 : BitVec 32 := 256#32
  let v3198 : BitVec 32 := Scalar.muli v3197 c256_i32_1912
  let c207_i32 : BitVec 32 := 207#32
  let v3199 : BitVec 32 := Scalar.addi v3198 c207_i32
  let c8_i32_1916 : BitVec 32 := 8#32
  let v3204 : BitVec 32 := Scalar.muli v3199 c8_i32_1916
  v3204
def k0_off843 (i : grid0.Coords) : Fin 1 → Nat :=
  let c1_i32_1913 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3200 : BitVec 32 := Scalar.subi c1_i32_1913 v9
  ![v3200.toNat]
def k0_off844 (i : grid0.Coords) : Fin 3 → Nat :=
  let c1_i32_1913 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3200 : BitVec 32 := Scalar.subi c1_i32_1913 v9
  let arg1 : BitVec 32 := BitVec.ofNat 32 (i 1).val
  let c2_i32_1910 : BitVec 32 := 2#32
  let v3196 : BitVec 32 := Scalar.muli arg1 c2_i32_1910
  let c0_i32_1911 : BitVec 32 := 0#32
  let v3197 : BitVec 32 := Scalar.addi v3196 c0_i32_1911
  let c256_i32_1912 : BitVec 32 := 256#32
  let v3198 : BitVec 32 := Scalar.muli v3197 c256_i32_1912
  let c207_i32 : BitVec 32 := 207#32
  let v3199 : BitVec 32 := Scalar.addi v3198 c207_i32
  let c8_i32_1916 : BitVec 32 := 8#32
  let v3204 : BitVec 32 := Scalar.muli v3199 c8_i32_1916
  let v3205 : BitVec 32 := v3204
  let c0_i32_1917 : BitVec 32 := 0#32
  ![v3200.toNat, v3205.toNat, 0]
def k0_off845 (v3202 : BitVec 32) : Fin 2 → Nat :=
  let v3203 : BitVec 32 := v3202
  let c0_i32_1918 : BitVec 32 := 0#32
  ![v3203.toNat, 0]

def k0_chk209 (i : grid0.Coords) (v3202 : BitVec 32) : Prop :=
  (∀ (k0_h2 : k0_cond2 i = 1#1), 8 ∣ (k0_mult417 v3202).toNat) ∧
  (∀ (k0_h2 : k0_cond2 i = 1#1), ∀ a, (k0_off845 v3202) a + S8x128.size a ≤ S131072x128.size a)
theorem k0_mult417_dvd : ∀ (i : grid0.Coords) (v3202 : BitVec 32) (k0_hw209 : k0_chk209 i v3202), ∀ (k0_h2 : k0_cond2 i = 1#1), 8 ∣ (k0_mult417 v3202).toNat := fun i v3202 k0_hw209 k0_h2 => k0_hw209.1 k0_h2
theorem k0_off845_inb : ∀ (i : grid0.Coords) (v3202 : BitVec 32) (k0_hw209 : k0_chk209 i v3202), ∀ (k0_h2 : k0_cond2 i = 1#1), ∀ a, (k0_off845 v3202) a + S8x128.size a ≤ S131072x128.size a := fun i v3202 k0_hw209 k0_h2 => k0_hw209.2 k0_h2

def k0_off846 (i : grid0.Coords) : Fin 3 → Nat :=
  let c0_1923 : Index := 0#32
  let c0_1924 : Index := 0#32
  let arg1 : BitVec 32 := BitVec.ofNat 32 (i 1).val
  let c2_i32_1919 : BitVec 32 := 2#32
  let v3211 : BitVec 32 := Scalar.muli arg1 c2_i32_1919
  let c0_i32_1920 : BitVec 32 := 0#32
  let v3212 : BitVec 32 := Scalar.addi v3211 c0_i32_1920
  let c256_i32_1921 : BitVec 32 := 256#32
  let v3213 : BitVec 32 := Scalar.muli v3212 c256_i32_1921
  let c208_i32 : BitVec 32 := 208#32
  let v3214 : BitVec 32 := Scalar.addi v3213 c208_i32
  let v3216 : Index := Scalar.indexCast v3214
  ![0, 0, v3216.toNat]
def k0_mult419 (v3217 : BitVec 32) : BitVec 32 :=
  v3217

def k0_mult420 (i : grid0.Coords) : BitVec 32 :=
  let arg1 : BitVec 32 := BitVec.ofNat 32 (i 1).val
  let c2_i32_1919 : BitVec 32 := 2#32
  let v3211 : BitVec 32 := Scalar.muli arg1 c2_i32_1919
  let c0_i32_1920 : BitVec 32 := 0#32
  let v3212 : BitVec 32 := Scalar.addi v3211 c0_i32_1920
  let c256_i32_1921 : BitVec 32 := 256#32
  let v3213 : BitVec 32 := Scalar.muli v3212 c256_i32_1921
  let c208_i32 : BitVec 32 := 208#32
  let v3214 : BitVec 32 := Scalar.addi v3213 c208_i32
  let c8_i32_1925 : BitVec 32 := 8#32
  let v3219 : BitVec 32 := Scalar.muli v3214 c8_i32_1925
  v3219
def k0_off847 (i : grid0.Coords) : Fin 1 → Nat :=
  let c1_i32_1922 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3215 : BitVec 32 := Scalar.subi c1_i32_1922 v9
  ![v3215.toNat]
def k0_off848 (i : grid0.Coords) : Fin 3 → Nat :=
  let c1_i32_1922 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3215 : BitVec 32 := Scalar.subi c1_i32_1922 v9
  let arg1 : BitVec 32 := BitVec.ofNat 32 (i 1).val
  let c2_i32_1919 : BitVec 32 := 2#32
  let v3211 : BitVec 32 := Scalar.muli arg1 c2_i32_1919
  let c0_i32_1920 : BitVec 32 := 0#32
  let v3212 : BitVec 32 := Scalar.addi v3211 c0_i32_1920
  let c256_i32_1921 : BitVec 32 := 256#32
  let v3213 : BitVec 32 := Scalar.muli v3212 c256_i32_1921
  let c208_i32 : BitVec 32 := 208#32
  let v3214 : BitVec 32 := Scalar.addi v3213 c208_i32
  let c8_i32_1925 : BitVec 32 := 8#32
  let v3219 : BitVec 32 := Scalar.muli v3214 c8_i32_1925
  let v3220 : BitVec 32 := v3219
  let c0_i32_1926 : BitVec 32 := 0#32
  ![v3215.toNat, v3220.toNat, 0]
def k0_off849 (v3217 : BitVec 32) : Fin 2 → Nat :=
  let v3218 : BitVec 32 := v3217
  let c0_i32_1927 : BitVec 32 := 0#32
  ![v3218.toNat, 0]

def k0_chk210 (i : grid0.Coords) (v3217 : BitVec 32) : Prop :=
  (∀ (k0_h2 : k0_cond2 i = 1#1), 8 ∣ (k0_mult419 v3217).toNat) ∧
  (∀ (k0_h2 : k0_cond2 i = 1#1), ∀ a, (k0_off849 v3217) a + S8x128.size a ≤ S131072x128.size a)
theorem k0_mult419_dvd : ∀ (i : grid0.Coords) (v3217 : BitVec 32) (k0_hw210 : k0_chk210 i v3217), ∀ (k0_h2 : k0_cond2 i = 1#1), 8 ∣ (k0_mult419 v3217).toNat := fun i v3217 k0_hw210 k0_h2 => k0_hw210.1 k0_h2
theorem k0_off849_inb : ∀ (i : grid0.Coords) (v3217 : BitVec 32) (k0_hw210 : k0_chk210 i v3217), ∀ (k0_h2 : k0_cond2 i = 1#1), ∀ a, (k0_off849 v3217) a + S8x128.size a ≤ S131072x128.size a := fun i v3217 k0_hw210 k0_h2 => k0_hw210.2 k0_h2

def k0_off850 (i : grid0.Coords) : Fin 3 → Nat :=
  let c0_1932 : Index := 0#32
  let c0_1933 : Index := 0#32
  let arg1 : BitVec 32 := BitVec.ofNat 32 (i 1).val
  let c2_i32_1928 : BitVec 32 := 2#32
  let v3226 : BitVec 32 := Scalar.muli arg1 c2_i32_1928
  let c0_i32_1929 : BitVec 32 := 0#32
  let v3227 : BitVec 32 := Scalar.addi v3226 c0_i32_1929
  let c256_i32_1930 : BitVec 32 := 256#32
  let v3228 : BitVec 32 := Scalar.muli v3227 c256_i32_1930
  let c209_i32 : BitVec 32 := 209#32
  let v3229 : BitVec 32 := Scalar.addi v3228 c209_i32
  let v3231 : Index := Scalar.indexCast v3229
  ![0, 0, v3231.toNat]
def k0_mult421 (v3232 : BitVec 32) : BitVec 32 :=
  v3232

def k0_mult422 (i : grid0.Coords) : BitVec 32 :=
  let arg1 : BitVec 32 := BitVec.ofNat 32 (i 1).val
  let c2_i32_1928 : BitVec 32 := 2#32
  let v3226 : BitVec 32 := Scalar.muli arg1 c2_i32_1928
  let c0_i32_1929 : BitVec 32 := 0#32
  let v3227 : BitVec 32 := Scalar.addi v3226 c0_i32_1929
  let c256_i32_1930 : BitVec 32 := 256#32
  let v3228 : BitVec 32 := Scalar.muli v3227 c256_i32_1930
  let c209_i32 : BitVec 32 := 209#32
  let v3229 : BitVec 32 := Scalar.addi v3228 c209_i32
  let c8_i32_1934 : BitVec 32 := 8#32
  let v3234 : BitVec 32 := Scalar.muli v3229 c8_i32_1934
  v3234
def k0_off851 (i : grid0.Coords) : Fin 1 → Nat :=
  let c1_i32_1931 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3230 : BitVec 32 := Scalar.subi c1_i32_1931 v9
  ![v3230.toNat]
def k0_off852 (i : grid0.Coords) : Fin 3 → Nat :=
  let c1_i32_1931 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3230 : BitVec 32 := Scalar.subi c1_i32_1931 v9
  let arg1 : BitVec 32 := BitVec.ofNat 32 (i 1).val
  let c2_i32_1928 : BitVec 32 := 2#32
  let v3226 : BitVec 32 := Scalar.muli arg1 c2_i32_1928
  let c0_i32_1929 : BitVec 32 := 0#32
  let v3227 : BitVec 32 := Scalar.addi v3226 c0_i32_1929
  let c256_i32_1930 : BitVec 32 := 256#32
  let v3228 : BitVec 32 := Scalar.muli v3227 c256_i32_1930
  let c209_i32 : BitVec 32 := 209#32
  let v3229 : BitVec 32 := Scalar.addi v3228 c209_i32
  let c8_i32_1934 : BitVec 32 := 8#32
  let v3234 : BitVec 32 := Scalar.muli v3229 c8_i32_1934
  let v3235 : BitVec 32 := v3234
  let c0_i32_1935 : BitVec 32 := 0#32
  ![v3230.toNat, v3235.toNat, 0]
def k0_off853 (v3232 : BitVec 32) : Fin 2 → Nat :=
  let v3233 : BitVec 32 := v3232
  let c0_i32_1936 : BitVec 32 := 0#32
  ![v3233.toNat, 0]

def k0_chk211 (i : grid0.Coords) (v3232 : BitVec 32) : Prop :=
  (∀ (k0_h2 : k0_cond2 i = 1#1), 8 ∣ (k0_mult421 v3232).toNat) ∧
  (∀ (k0_h2 : k0_cond2 i = 1#1), ∀ a, (k0_off853 v3232) a + S8x128.size a ≤ S131072x128.size a)
theorem k0_mult421_dvd : ∀ (i : grid0.Coords) (v3232 : BitVec 32) (k0_hw211 : k0_chk211 i v3232), ∀ (k0_h2 : k0_cond2 i = 1#1), 8 ∣ (k0_mult421 v3232).toNat := fun i v3232 k0_hw211 k0_h2 => k0_hw211.1 k0_h2
theorem k0_off853_inb : ∀ (i : grid0.Coords) (v3232 : BitVec 32) (k0_hw211 : k0_chk211 i v3232), ∀ (k0_h2 : k0_cond2 i = 1#1), ∀ a, (k0_off853 v3232) a + S8x128.size a ≤ S131072x128.size a := fun i v3232 k0_hw211 k0_h2 => k0_hw211.2 k0_h2

def k0_off854 (i : grid0.Coords) : Fin 3 → Nat :=
  let c0_1941 : Index := 0#32
  let c0_1942 : Index := 0#32
  let arg1 : BitVec 32 := BitVec.ofNat 32 (i 1).val
  let c2_i32_1937 : BitVec 32 := 2#32
  let v3241 : BitVec 32 := Scalar.muli arg1 c2_i32_1937
  let c0_i32_1938 : BitVec 32 := 0#32
  let v3242 : BitVec 32 := Scalar.addi v3241 c0_i32_1938
  let c256_i32_1939 : BitVec 32 := 256#32
  let v3243 : BitVec 32 := Scalar.muli v3242 c256_i32_1939
  let c210_i32 : BitVec 32 := 210#32
  let v3244 : BitVec 32 := Scalar.addi v3243 c210_i32
  let v3246 : Index := Scalar.indexCast v3244
  ![0, 0, v3246.toNat]
def k0_mult423 (v3247 : BitVec 32) : BitVec 32 :=
  v3247

def k0_mult424 (i : grid0.Coords) : BitVec 32 :=
  let arg1 : BitVec 32 := BitVec.ofNat 32 (i 1).val
  let c2_i32_1937 : BitVec 32 := 2#32
  let v3241 : BitVec 32 := Scalar.muli arg1 c2_i32_1937
  let c0_i32_1938 : BitVec 32 := 0#32
  let v3242 : BitVec 32 := Scalar.addi v3241 c0_i32_1938
  let c256_i32_1939 : BitVec 32 := 256#32
  let v3243 : BitVec 32 := Scalar.muli v3242 c256_i32_1939
  let c210_i32 : BitVec 32 := 210#32
  let v3244 : BitVec 32 := Scalar.addi v3243 c210_i32
  let c8_i32_1943 : BitVec 32 := 8#32
  let v3249 : BitVec 32 := Scalar.muli v3244 c8_i32_1943
  v3249
def k0_off855 (i : grid0.Coords) : Fin 1 → Nat :=
  let c1_i32_1940 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3245 : BitVec 32 := Scalar.subi c1_i32_1940 v9
  ![v3245.toNat]
def k0_off856 (i : grid0.Coords) : Fin 3 → Nat :=
  let c1_i32_1940 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3245 : BitVec 32 := Scalar.subi c1_i32_1940 v9
  let arg1 : BitVec 32 := BitVec.ofNat 32 (i 1).val
  let c2_i32_1937 : BitVec 32 := 2#32
  let v3241 : BitVec 32 := Scalar.muli arg1 c2_i32_1937
  let c0_i32_1938 : BitVec 32 := 0#32
  let v3242 : BitVec 32 := Scalar.addi v3241 c0_i32_1938
  let c256_i32_1939 : BitVec 32 := 256#32
  let v3243 : BitVec 32 := Scalar.muli v3242 c256_i32_1939
  let c210_i32 : BitVec 32 := 210#32
  let v3244 : BitVec 32 := Scalar.addi v3243 c210_i32
  let c8_i32_1943 : BitVec 32 := 8#32
  let v3249 : BitVec 32 := Scalar.muli v3244 c8_i32_1943
  let v3250 : BitVec 32 := v3249
  let c0_i32_1944 : BitVec 32 := 0#32
  ![v3245.toNat, v3250.toNat, 0]
def k0_off857 (v3247 : BitVec 32) : Fin 2 → Nat :=
  let v3248 : BitVec 32 := v3247
  let c0_i32_1945 : BitVec 32 := 0#32
  ![v3248.toNat, 0]

def k0_chk212 (i : grid0.Coords) (v3247 : BitVec 32) : Prop :=
  (∀ (k0_h2 : k0_cond2 i = 1#1), 8 ∣ (k0_mult423 v3247).toNat) ∧
  (∀ (k0_h2 : k0_cond2 i = 1#1), ∀ a, (k0_off857 v3247) a + S8x128.size a ≤ S131072x128.size a)
theorem k0_mult423_dvd : ∀ (i : grid0.Coords) (v3247 : BitVec 32) (k0_hw212 : k0_chk212 i v3247), ∀ (k0_h2 : k0_cond2 i = 1#1), 8 ∣ (k0_mult423 v3247).toNat := fun i v3247 k0_hw212 k0_h2 => k0_hw212.1 k0_h2
theorem k0_off857_inb : ∀ (i : grid0.Coords) (v3247 : BitVec 32) (k0_hw212 : k0_chk212 i v3247), ∀ (k0_h2 : k0_cond2 i = 1#1), ∀ a, (k0_off857 v3247) a + S8x128.size a ≤ S131072x128.size a := fun i v3247 k0_hw212 k0_h2 => k0_hw212.2 k0_h2

def k0_off858 (i : grid0.Coords) : Fin 3 → Nat :=
  let c0_1950 : Index := 0#32
  let c0_1951 : Index := 0#32
  let arg1 : BitVec 32 := BitVec.ofNat 32 (i 1).val
  let c2_i32_1946 : BitVec 32 := 2#32
  let v3256 : BitVec 32 := Scalar.muli arg1 c2_i32_1946
  let c0_i32_1947 : BitVec 32 := 0#32
  let v3257 : BitVec 32 := Scalar.addi v3256 c0_i32_1947
  let c256_i32_1948 : BitVec 32 := 256#32
  let v3258 : BitVec 32 := Scalar.muli v3257 c256_i32_1948
  let c211_i32 : BitVec 32 := 211#32
  let v3259 : BitVec 32 := Scalar.addi v3258 c211_i32
  let v3261 : Index := Scalar.indexCast v3259
  ![0, 0, v3261.toNat]
def k0_mult425 (v3262 : BitVec 32) : BitVec 32 :=
  v3262

def k0_mult426 (i : grid0.Coords) : BitVec 32 :=
  let arg1 : BitVec 32 := BitVec.ofNat 32 (i 1).val
  let c2_i32_1946 : BitVec 32 := 2#32
  let v3256 : BitVec 32 := Scalar.muli arg1 c2_i32_1946
  let c0_i32_1947 : BitVec 32 := 0#32
  let v3257 : BitVec 32 := Scalar.addi v3256 c0_i32_1947
  let c256_i32_1948 : BitVec 32 := 256#32
  let v3258 : BitVec 32 := Scalar.muli v3257 c256_i32_1948
  let c211_i32 : BitVec 32 := 211#32
  let v3259 : BitVec 32 := Scalar.addi v3258 c211_i32
  let c8_i32_1952 : BitVec 32 := 8#32
  let v3264 : BitVec 32 := Scalar.muli v3259 c8_i32_1952
  v3264
def k0_off859 (i : grid0.Coords) : Fin 1 → Nat :=
  let c1_i32_1949 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3260 : BitVec 32 := Scalar.subi c1_i32_1949 v9
  ![v3260.toNat]
def k0_off860 (i : grid0.Coords) : Fin 3 → Nat :=
  let c1_i32_1949 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3260 : BitVec 32 := Scalar.subi c1_i32_1949 v9
  let arg1 : BitVec 32 := BitVec.ofNat 32 (i 1).val
  let c2_i32_1946 : BitVec 32 := 2#32
  let v3256 : BitVec 32 := Scalar.muli arg1 c2_i32_1946
  let c0_i32_1947 : BitVec 32 := 0#32
  let v3257 : BitVec 32 := Scalar.addi v3256 c0_i32_1947
  let c256_i32_1948 : BitVec 32 := 256#32
  let v3258 : BitVec 32 := Scalar.muli v3257 c256_i32_1948
  let c211_i32 : BitVec 32 := 211#32
  let v3259 : BitVec 32 := Scalar.addi v3258 c211_i32
  let c8_i32_1952 : BitVec 32 := 8#32
  let v3264 : BitVec 32 := Scalar.muli v3259 c8_i32_1952
  let v3265 : BitVec 32 := v3264
  let c0_i32_1953 : BitVec 32 := 0#32
  ![v3260.toNat, v3265.toNat, 0]
def k0_off861 (v3262 : BitVec 32) : Fin 2 → Nat :=
  let v3263 : BitVec 32 := v3262
  let c0_i32_1954 : BitVec 32 := 0#32
  ![v3263.toNat, 0]

def k0_chk213 (i : grid0.Coords) (v3262 : BitVec 32) : Prop :=
  (∀ (k0_h2 : k0_cond2 i = 1#1), 8 ∣ (k0_mult425 v3262).toNat) ∧
  (∀ (k0_h2 : k0_cond2 i = 1#1), ∀ a, (k0_off861 v3262) a + S8x128.size a ≤ S131072x128.size a)
theorem k0_mult425_dvd : ∀ (i : grid0.Coords) (v3262 : BitVec 32) (k0_hw213 : k0_chk213 i v3262), ∀ (k0_h2 : k0_cond2 i = 1#1), 8 ∣ (k0_mult425 v3262).toNat := fun i v3262 k0_hw213 k0_h2 => k0_hw213.1 k0_h2
theorem k0_off861_inb : ∀ (i : grid0.Coords) (v3262 : BitVec 32) (k0_hw213 : k0_chk213 i v3262), ∀ (k0_h2 : k0_cond2 i = 1#1), ∀ a, (k0_off861 v3262) a + S8x128.size a ≤ S131072x128.size a := fun i v3262 k0_hw213 k0_h2 => k0_hw213.2 k0_h2

def k0_off862 (i : grid0.Coords) : Fin 3 → Nat :=
  let c0_1959 : Index := 0#32
  let c0_1960 : Index := 0#32
  let arg1 : BitVec 32 := BitVec.ofNat 32 (i 1).val
  let c2_i32_1955 : BitVec 32 := 2#32
  let v3271 : BitVec 32 := Scalar.muli arg1 c2_i32_1955
  let c0_i32_1956 : BitVec 32 := 0#32
  let v3272 : BitVec 32 := Scalar.addi v3271 c0_i32_1956
  let c256_i32_1957 : BitVec 32 := 256#32
  let v3273 : BitVec 32 := Scalar.muli v3272 c256_i32_1957
  let c212_i32 : BitVec 32 := 212#32
  let v3274 : BitVec 32 := Scalar.addi v3273 c212_i32
  let v3276 : Index := Scalar.indexCast v3274
  ![0, 0, v3276.toNat]
def k0_mult427 (v3277 : BitVec 32) : BitVec 32 :=
  v3277

def k0_mult428 (i : grid0.Coords) : BitVec 32 :=
  let arg1 : BitVec 32 := BitVec.ofNat 32 (i 1).val
  let c2_i32_1955 : BitVec 32 := 2#32
  let v3271 : BitVec 32 := Scalar.muli arg1 c2_i32_1955
  let c0_i32_1956 : BitVec 32 := 0#32
  let v3272 : BitVec 32 := Scalar.addi v3271 c0_i32_1956
  let c256_i32_1957 : BitVec 32 := 256#32
  let v3273 : BitVec 32 := Scalar.muli v3272 c256_i32_1957
  let c212_i32 : BitVec 32 := 212#32
  let v3274 : BitVec 32 := Scalar.addi v3273 c212_i32
  let c8_i32_1961 : BitVec 32 := 8#32
  let v3279 : BitVec 32 := Scalar.muli v3274 c8_i32_1961
  v3279
def k0_off863 (i : grid0.Coords) : Fin 1 → Nat :=
  let c1_i32_1958 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3275 : BitVec 32 := Scalar.subi c1_i32_1958 v9
  ![v3275.toNat]
def k0_off864 (i : grid0.Coords) : Fin 3 → Nat :=
  let c1_i32_1958 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3275 : BitVec 32 := Scalar.subi c1_i32_1958 v9
  let arg1 : BitVec 32 := BitVec.ofNat 32 (i 1).val
  let c2_i32_1955 : BitVec 32 := 2#32
  let v3271 : BitVec 32 := Scalar.muli arg1 c2_i32_1955
  let c0_i32_1956 : BitVec 32 := 0#32
  let v3272 : BitVec 32 := Scalar.addi v3271 c0_i32_1956
  let c256_i32_1957 : BitVec 32 := 256#32
  let v3273 : BitVec 32 := Scalar.muli v3272 c256_i32_1957
  let c212_i32 : BitVec 32 := 212#32
  let v3274 : BitVec 32 := Scalar.addi v3273 c212_i32
  let c8_i32_1961 : BitVec 32 := 8#32
  let v3279 : BitVec 32 := Scalar.muli v3274 c8_i32_1961
  let v3280 : BitVec 32 := v3279
  let c0_i32_1962 : BitVec 32 := 0#32
  ![v3275.toNat, v3280.toNat, 0]
def k0_off865 (v3277 : BitVec 32) : Fin 2 → Nat :=
  let v3278 : BitVec 32 := v3277
  let c0_i32_1963 : BitVec 32 := 0#32
  ![v3278.toNat, 0]

def k0_chk214 (i : grid0.Coords) (v3277 : BitVec 32) : Prop :=
  (∀ (k0_h2 : k0_cond2 i = 1#1), 8 ∣ (k0_mult427 v3277).toNat) ∧
  (∀ (k0_h2 : k0_cond2 i = 1#1), ∀ a, (k0_off865 v3277) a + S8x128.size a ≤ S131072x128.size a)
theorem k0_mult427_dvd : ∀ (i : grid0.Coords) (v3277 : BitVec 32) (k0_hw214 : k0_chk214 i v3277), ∀ (k0_h2 : k0_cond2 i = 1#1), 8 ∣ (k0_mult427 v3277).toNat := fun i v3277 k0_hw214 k0_h2 => k0_hw214.1 k0_h2
theorem k0_off865_inb : ∀ (i : grid0.Coords) (v3277 : BitVec 32) (k0_hw214 : k0_chk214 i v3277), ∀ (k0_h2 : k0_cond2 i = 1#1), ∀ a, (k0_off865 v3277) a + S8x128.size a ≤ S131072x128.size a := fun i v3277 k0_hw214 k0_h2 => k0_hw214.2 k0_h2

def k0_off866 (i : grid0.Coords) : Fin 3 → Nat :=
  let c0_1968 : Index := 0#32
  let c0_1969 : Index := 0#32
  let arg1 : BitVec 32 := BitVec.ofNat 32 (i 1).val
  let c2_i32_1964 : BitVec 32 := 2#32
  let v3286 : BitVec 32 := Scalar.muli arg1 c2_i32_1964
  let c0_i32_1965 : BitVec 32 := 0#32
  let v3287 : BitVec 32 := Scalar.addi v3286 c0_i32_1965
  let c256_i32_1966 : BitVec 32 := 256#32
  let v3288 : BitVec 32 := Scalar.muli v3287 c256_i32_1966
  let c213_i32 : BitVec 32 := 213#32
  let v3289 : BitVec 32 := Scalar.addi v3288 c213_i32
  let v3291 : Index := Scalar.indexCast v3289
  ![0, 0, v3291.toNat]
def k0_mult429 (v3292 : BitVec 32) : BitVec 32 :=
  v3292

def k0_mult430 (i : grid0.Coords) : BitVec 32 :=
  let arg1 : BitVec 32 := BitVec.ofNat 32 (i 1).val
  let c2_i32_1964 : BitVec 32 := 2#32
  let v3286 : BitVec 32 := Scalar.muli arg1 c2_i32_1964
  let c0_i32_1965 : BitVec 32 := 0#32
  let v3287 : BitVec 32 := Scalar.addi v3286 c0_i32_1965
  let c256_i32_1966 : BitVec 32 := 256#32
  let v3288 : BitVec 32 := Scalar.muli v3287 c256_i32_1966
  let c213_i32 : BitVec 32 := 213#32
  let v3289 : BitVec 32 := Scalar.addi v3288 c213_i32
  let c8_i32_1970 : BitVec 32 := 8#32
  let v3294 : BitVec 32 := Scalar.muli v3289 c8_i32_1970
  v3294
def k0_off867 (i : grid0.Coords) : Fin 1 → Nat :=
  let c1_i32_1967 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3290 : BitVec 32 := Scalar.subi c1_i32_1967 v9
  ![v3290.toNat]
def k0_off868 (i : grid0.Coords) : Fin 3 → Nat :=
  let c1_i32_1967 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3290 : BitVec 32 := Scalar.subi c1_i32_1967 v9
  let arg1 : BitVec 32 := BitVec.ofNat 32 (i 1).val
  let c2_i32_1964 : BitVec 32 := 2#32
  let v3286 : BitVec 32 := Scalar.muli arg1 c2_i32_1964
  let c0_i32_1965 : BitVec 32 := 0#32
  let v3287 : BitVec 32 := Scalar.addi v3286 c0_i32_1965
  let c256_i32_1966 : BitVec 32 := 256#32
  let v3288 : BitVec 32 := Scalar.muli v3287 c256_i32_1966
  let c213_i32 : BitVec 32 := 213#32
  let v3289 : BitVec 32 := Scalar.addi v3288 c213_i32
  let c8_i32_1970 : BitVec 32 := 8#32
  let v3294 : BitVec 32 := Scalar.muli v3289 c8_i32_1970
  let v3295 : BitVec 32 := v3294
  let c0_i32_1971 : BitVec 32 := 0#32
  ![v3290.toNat, v3295.toNat, 0]
def k0_off869 (v3292 : BitVec 32) : Fin 2 → Nat :=
  let v3293 : BitVec 32 := v3292
  let c0_i32_1972 : BitVec 32 := 0#32
  ![v3293.toNat, 0]

def k0_chk215 (i : grid0.Coords) (v3292 : BitVec 32) : Prop :=
  (∀ (k0_h2 : k0_cond2 i = 1#1), 8 ∣ (k0_mult429 v3292).toNat) ∧
  (∀ (k0_h2 : k0_cond2 i = 1#1), ∀ a, (k0_off869 v3292) a + S8x128.size a ≤ S131072x128.size a)
theorem k0_mult429_dvd : ∀ (i : grid0.Coords) (v3292 : BitVec 32) (k0_hw215 : k0_chk215 i v3292), ∀ (k0_h2 : k0_cond2 i = 1#1), 8 ∣ (k0_mult429 v3292).toNat := fun i v3292 k0_hw215 k0_h2 => k0_hw215.1 k0_h2
theorem k0_off869_inb : ∀ (i : grid0.Coords) (v3292 : BitVec 32) (k0_hw215 : k0_chk215 i v3292), ∀ (k0_h2 : k0_cond2 i = 1#1), ∀ a, (k0_off869 v3292) a + S8x128.size a ≤ S131072x128.size a := fun i v3292 k0_hw215 k0_h2 => k0_hw215.2 k0_h2

def k0_off870 (i : grid0.Coords) : Fin 3 → Nat :=
  let c0_1977 : Index := 0#32
  let c0_1978 : Index := 0#32
  let arg1 : BitVec 32 := BitVec.ofNat 32 (i 1).val
  let c2_i32_1973 : BitVec 32 := 2#32
  let v3301 : BitVec 32 := Scalar.muli arg1 c2_i32_1973
  let c0_i32_1974 : BitVec 32 := 0#32
  let v3302 : BitVec 32 := Scalar.addi v3301 c0_i32_1974
  let c256_i32_1975 : BitVec 32 := 256#32
  let v3303 : BitVec 32 := Scalar.muli v3302 c256_i32_1975
  let c214_i32 : BitVec 32 := 214#32
  let v3304 : BitVec 32 := Scalar.addi v3303 c214_i32
  let v3306 : Index := Scalar.indexCast v3304
  ![0, 0, v3306.toNat]
def k0_mult431 (v3307 : BitVec 32) : BitVec 32 :=
  v3307

def k0_mult432 (i : grid0.Coords) : BitVec 32 :=
  let arg1 : BitVec 32 := BitVec.ofNat 32 (i 1).val
  let c2_i32_1973 : BitVec 32 := 2#32
  let v3301 : BitVec 32 := Scalar.muli arg1 c2_i32_1973
  let c0_i32_1974 : BitVec 32 := 0#32
  let v3302 : BitVec 32 := Scalar.addi v3301 c0_i32_1974
  let c256_i32_1975 : BitVec 32 := 256#32
  let v3303 : BitVec 32 := Scalar.muli v3302 c256_i32_1975
  let c214_i32 : BitVec 32 := 214#32
  let v3304 : BitVec 32 := Scalar.addi v3303 c214_i32
  let c8_i32_1979 : BitVec 32 := 8#32
  let v3309 : BitVec 32 := Scalar.muli v3304 c8_i32_1979
  v3309
def k0_off871 (i : grid0.Coords) : Fin 1 → Nat :=
  let c1_i32_1976 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3305 : BitVec 32 := Scalar.subi c1_i32_1976 v9
  ![v3305.toNat]
def k0_off872 (i : grid0.Coords) : Fin 3 → Nat :=
  let c1_i32_1976 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3305 : BitVec 32 := Scalar.subi c1_i32_1976 v9
  let arg1 : BitVec 32 := BitVec.ofNat 32 (i 1).val
  let c2_i32_1973 : BitVec 32 := 2#32
  let v3301 : BitVec 32 := Scalar.muli arg1 c2_i32_1973
  let c0_i32_1974 : BitVec 32 := 0#32
  let v3302 : BitVec 32 := Scalar.addi v3301 c0_i32_1974
  let c256_i32_1975 : BitVec 32 := 256#32
  let v3303 : BitVec 32 := Scalar.muli v3302 c256_i32_1975
  let c214_i32 : BitVec 32 := 214#32
  let v3304 : BitVec 32 := Scalar.addi v3303 c214_i32
  let c8_i32_1979 : BitVec 32 := 8#32
  let v3309 : BitVec 32 := Scalar.muli v3304 c8_i32_1979
  let v3310 : BitVec 32 := v3309
  let c0_i32_1980 : BitVec 32 := 0#32
  ![v3305.toNat, v3310.toNat, 0]
def k0_off873 (v3307 : BitVec 32) : Fin 2 → Nat :=
  let v3308 : BitVec 32 := v3307
  let c0_i32_1981 : BitVec 32 := 0#32
  ![v3308.toNat, 0]

def k0_chk216 (i : grid0.Coords) (v3307 : BitVec 32) : Prop :=
  (∀ (k0_h2 : k0_cond2 i = 1#1), 8 ∣ (k0_mult431 v3307).toNat) ∧
  (∀ (k0_h2 : k0_cond2 i = 1#1), ∀ a, (k0_off873 v3307) a + S8x128.size a ≤ S131072x128.size a)
theorem k0_mult431_dvd : ∀ (i : grid0.Coords) (v3307 : BitVec 32) (k0_hw216 : k0_chk216 i v3307), ∀ (k0_h2 : k0_cond2 i = 1#1), 8 ∣ (k0_mult431 v3307).toNat := fun i v3307 k0_hw216 k0_h2 => k0_hw216.1 k0_h2
theorem k0_off873_inb : ∀ (i : grid0.Coords) (v3307 : BitVec 32) (k0_hw216 : k0_chk216 i v3307), ∀ (k0_h2 : k0_cond2 i = 1#1), ∀ a, (k0_off873 v3307) a + S8x128.size a ≤ S131072x128.size a := fun i v3307 k0_hw216 k0_h2 => k0_hw216.2 k0_h2

def k0_off874 (i : grid0.Coords) : Fin 3 → Nat :=
  let c0_1986 : Index := 0#32
  let c0_1987 : Index := 0#32
  let arg1 : BitVec 32 := BitVec.ofNat 32 (i 1).val
  let c2_i32_1982 : BitVec 32 := 2#32
  let v3316 : BitVec 32 := Scalar.muli arg1 c2_i32_1982
  let c0_i32_1983 : BitVec 32 := 0#32
  let v3317 : BitVec 32 := Scalar.addi v3316 c0_i32_1983
  let c256_i32_1984 : BitVec 32 := 256#32
  let v3318 : BitVec 32 := Scalar.muli v3317 c256_i32_1984
  let c215_i32 : BitVec 32 := 215#32
  let v3319 : BitVec 32 := Scalar.addi v3318 c215_i32
  let v3321 : Index := Scalar.indexCast v3319
  ![0, 0, v3321.toNat]
def k0_mult433 (v3322 : BitVec 32) : BitVec 32 :=
  v3322

def k0_mult434 (i : grid0.Coords) : BitVec 32 :=
  let arg1 : BitVec 32 := BitVec.ofNat 32 (i 1).val
  let c2_i32_1982 : BitVec 32 := 2#32
  let v3316 : BitVec 32 := Scalar.muli arg1 c2_i32_1982
  let c0_i32_1983 : BitVec 32 := 0#32
  let v3317 : BitVec 32 := Scalar.addi v3316 c0_i32_1983
  let c256_i32_1984 : BitVec 32 := 256#32
  let v3318 : BitVec 32 := Scalar.muli v3317 c256_i32_1984
  let c215_i32 : BitVec 32 := 215#32
  let v3319 : BitVec 32 := Scalar.addi v3318 c215_i32
  let c8_i32_1988 : BitVec 32 := 8#32
  let v3324 : BitVec 32 := Scalar.muli v3319 c8_i32_1988
  v3324
def k0_off875 (i : grid0.Coords) : Fin 1 → Nat :=
  let c1_i32_1985 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3320 : BitVec 32 := Scalar.subi c1_i32_1985 v9
  ![v3320.toNat]
def k0_off876 (i : grid0.Coords) : Fin 3 → Nat :=
  let c1_i32_1985 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3320 : BitVec 32 := Scalar.subi c1_i32_1985 v9
  let arg1 : BitVec 32 := BitVec.ofNat 32 (i 1).val
  let c2_i32_1982 : BitVec 32 := 2#32
  let v3316 : BitVec 32 := Scalar.muli arg1 c2_i32_1982
  let c0_i32_1983 : BitVec 32 := 0#32
  let v3317 : BitVec 32 := Scalar.addi v3316 c0_i32_1983
  let c256_i32_1984 : BitVec 32 := 256#32
  let v3318 : BitVec 32 := Scalar.muli v3317 c256_i32_1984
  let c215_i32 : BitVec 32 := 215#32
  let v3319 : BitVec 32 := Scalar.addi v3318 c215_i32
  let c8_i32_1988 : BitVec 32 := 8#32
  let v3324 : BitVec 32 := Scalar.muli v3319 c8_i32_1988
  let v3325 : BitVec 32 := v3324
  let c0_i32_1989 : BitVec 32 := 0#32
  ![v3320.toNat, v3325.toNat, 0]
def k0_off877 (v3322 : BitVec 32) : Fin 2 → Nat :=
  let v3323 : BitVec 32 := v3322
  let c0_i32_1990 : BitVec 32 := 0#32
  ![v3323.toNat, 0]

def k0_chk217 (i : grid0.Coords) (v3322 : BitVec 32) : Prop :=
  (∀ (k0_h2 : k0_cond2 i = 1#1), 8 ∣ (k0_mult433 v3322).toNat) ∧
  (∀ (k0_h2 : k0_cond2 i = 1#1), ∀ a, (k0_off877 v3322) a + S8x128.size a ≤ S131072x128.size a)
theorem k0_mult433_dvd : ∀ (i : grid0.Coords) (v3322 : BitVec 32) (k0_hw217 : k0_chk217 i v3322), ∀ (k0_h2 : k0_cond2 i = 1#1), 8 ∣ (k0_mult433 v3322).toNat := fun i v3322 k0_hw217 k0_h2 => k0_hw217.1 k0_h2
theorem k0_off877_inb : ∀ (i : grid0.Coords) (v3322 : BitVec 32) (k0_hw217 : k0_chk217 i v3322), ∀ (k0_h2 : k0_cond2 i = 1#1), ∀ a, (k0_off877 v3322) a + S8x128.size a ≤ S131072x128.size a := fun i v3322 k0_hw217 k0_h2 => k0_hw217.2 k0_h2

def k0_off878 (i : grid0.Coords) : Fin 3 → Nat :=
  let c0_1995 : Index := 0#32
  let c0_1996 : Index := 0#32
  let arg1 : BitVec 32 := BitVec.ofNat 32 (i 1).val
  let c2_i32_1991 : BitVec 32 := 2#32
  let v3331 : BitVec 32 := Scalar.muli arg1 c2_i32_1991
  let c0_i32_1992 : BitVec 32 := 0#32
  let v3332 : BitVec 32 := Scalar.addi v3331 c0_i32_1992
  let c256_i32_1993 : BitVec 32 := 256#32
  let v3333 : BitVec 32 := Scalar.muli v3332 c256_i32_1993
  let c216_i32 : BitVec 32 := 216#32
  let v3334 : BitVec 32 := Scalar.addi v3333 c216_i32
  let v3336 : Index := Scalar.indexCast v3334
  ![0, 0, v3336.toNat]
def k0_mult435 (v3337 : BitVec 32) : BitVec 32 :=
  v3337

def k0_mult436 (i : grid0.Coords) : BitVec 32 :=
  let arg1 : BitVec 32 := BitVec.ofNat 32 (i 1).val
  let c2_i32_1991 : BitVec 32 := 2#32
  let v3331 : BitVec 32 := Scalar.muli arg1 c2_i32_1991
  let c0_i32_1992 : BitVec 32 := 0#32
  let v3332 : BitVec 32 := Scalar.addi v3331 c0_i32_1992
  let c256_i32_1993 : BitVec 32 := 256#32
  let v3333 : BitVec 32 := Scalar.muli v3332 c256_i32_1993
  let c216_i32 : BitVec 32 := 216#32
  let v3334 : BitVec 32 := Scalar.addi v3333 c216_i32
  let c8_i32_1997 : BitVec 32 := 8#32
  let v3339 : BitVec 32 := Scalar.muli v3334 c8_i32_1997
  v3339
def k0_off879 (i : grid0.Coords) : Fin 1 → Nat :=
  let c1_i32_1994 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3335 : BitVec 32 := Scalar.subi c1_i32_1994 v9
  ![v3335.toNat]
def k0_off880 (i : grid0.Coords) : Fin 3 → Nat :=
  let c1_i32_1994 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3335 : BitVec 32 := Scalar.subi c1_i32_1994 v9
  let arg1 : BitVec 32 := BitVec.ofNat 32 (i 1).val
  let c2_i32_1991 : BitVec 32 := 2#32
  let v3331 : BitVec 32 := Scalar.muli arg1 c2_i32_1991
  let c0_i32_1992 : BitVec 32 := 0#32
  let v3332 : BitVec 32 := Scalar.addi v3331 c0_i32_1992
  let c256_i32_1993 : BitVec 32 := 256#32
  let v3333 : BitVec 32 := Scalar.muli v3332 c256_i32_1993
  let c216_i32 : BitVec 32 := 216#32
  let v3334 : BitVec 32 := Scalar.addi v3333 c216_i32
  let c8_i32_1997 : BitVec 32 := 8#32
  let v3339 : BitVec 32 := Scalar.muli v3334 c8_i32_1997
  let v3340 : BitVec 32 := v3339
  let c0_i32_1998 : BitVec 32 := 0#32
  ![v3335.toNat, v3340.toNat, 0]
def k0_off881 (v3337 : BitVec 32) : Fin 2 → Nat :=
  let v3338 : BitVec 32 := v3337
  let c0_i32_1999 : BitVec 32 := 0#32
  ![v3338.toNat, 0]

def k0_chk218 (i : grid0.Coords) (v3337 : BitVec 32) : Prop :=
  (∀ (k0_h2 : k0_cond2 i = 1#1), 8 ∣ (k0_mult435 v3337).toNat) ∧
  (∀ (k0_h2 : k0_cond2 i = 1#1), ∀ a, (k0_off881 v3337) a + S8x128.size a ≤ S131072x128.size a)
theorem k0_mult435_dvd : ∀ (i : grid0.Coords) (v3337 : BitVec 32) (k0_hw218 : k0_chk218 i v3337), ∀ (k0_h2 : k0_cond2 i = 1#1), 8 ∣ (k0_mult435 v3337).toNat := fun i v3337 k0_hw218 k0_h2 => k0_hw218.1 k0_h2
theorem k0_off881_inb : ∀ (i : grid0.Coords) (v3337 : BitVec 32) (k0_hw218 : k0_chk218 i v3337), ∀ (k0_h2 : k0_cond2 i = 1#1), ∀ a, (k0_off881 v3337) a + S8x128.size a ≤ S131072x128.size a := fun i v3337 k0_hw218 k0_h2 => k0_hw218.2 k0_h2

def k0_off882 (i : grid0.Coords) : Fin 3 → Nat :=
  let c0_2004 : Index := 0#32
  let c0_2005 : Index := 0#32
  let arg1 : BitVec 32 := BitVec.ofNat 32 (i 1).val
  let c2_i32_2000 : BitVec 32 := 2#32
  let v3346 : BitVec 32 := Scalar.muli arg1 c2_i32_2000
  let c0_i32_2001 : BitVec 32 := 0#32
  let v3347 : BitVec 32 := Scalar.addi v3346 c0_i32_2001
  let c256_i32_2002 : BitVec 32 := 256#32
  let v3348 : BitVec 32 := Scalar.muli v3347 c256_i32_2002
  let c217_i32 : BitVec 32 := 217#32
  let v3349 : BitVec 32 := Scalar.addi v3348 c217_i32
  let v3351 : Index := Scalar.indexCast v3349
  ![0, 0, v3351.toNat]
def k0_mult437 (v3352 : BitVec 32) : BitVec 32 :=
  v3352

def k0_mult438 (i : grid0.Coords) : BitVec 32 :=
  let arg1 : BitVec 32 := BitVec.ofNat 32 (i 1).val
  let c2_i32_2000 : BitVec 32 := 2#32
  let v3346 : BitVec 32 := Scalar.muli arg1 c2_i32_2000
  let c0_i32_2001 : BitVec 32 := 0#32
  let v3347 : BitVec 32 := Scalar.addi v3346 c0_i32_2001
  let c256_i32_2002 : BitVec 32 := 256#32
  let v3348 : BitVec 32 := Scalar.muli v3347 c256_i32_2002
  let c217_i32 : BitVec 32 := 217#32
  let v3349 : BitVec 32 := Scalar.addi v3348 c217_i32
  let c8_i32_2006 : BitVec 32 := 8#32
  let v3354 : BitVec 32 := Scalar.muli v3349 c8_i32_2006
  v3354
def k0_off883 (i : grid0.Coords) : Fin 1 → Nat :=
  let c1_i32_2003 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3350 : BitVec 32 := Scalar.subi c1_i32_2003 v9
  ![v3350.toNat]
def k0_off884 (i : grid0.Coords) : Fin 3 → Nat :=
  let c1_i32_2003 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3350 : BitVec 32 := Scalar.subi c1_i32_2003 v9
  let arg1 : BitVec 32 := BitVec.ofNat 32 (i 1).val
  let c2_i32_2000 : BitVec 32 := 2#32
  let v3346 : BitVec 32 := Scalar.muli arg1 c2_i32_2000
  let c0_i32_2001 : BitVec 32 := 0#32
  let v3347 : BitVec 32 := Scalar.addi v3346 c0_i32_2001
  let c256_i32_2002 : BitVec 32 := 256#32
  let v3348 : BitVec 32 := Scalar.muli v3347 c256_i32_2002
  let c217_i32 : BitVec 32 := 217#32
  let v3349 : BitVec 32 := Scalar.addi v3348 c217_i32
  let c8_i32_2006 : BitVec 32 := 8#32
  let v3354 : BitVec 32 := Scalar.muli v3349 c8_i32_2006
  let v3355 : BitVec 32 := v3354
  let c0_i32_2007 : BitVec 32 := 0#32
  ![v3350.toNat, v3355.toNat, 0]
def k0_off885 (v3352 : BitVec 32) : Fin 2 → Nat :=
  let v3353 : BitVec 32 := v3352
  let c0_i32_2008 : BitVec 32 := 0#32
  ![v3353.toNat, 0]

def k0_chk219 (i : grid0.Coords) (v3352 : BitVec 32) : Prop :=
  (∀ (k0_h2 : k0_cond2 i = 1#1), 8 ∣ (k0_mult437 v3352).toNat) ∧
  (∀ (k0_h2 : k0_cond2 i = 1#1), ∀ a, (k0_off885 v3352) a + S8x128.size a ≤ S131072x128.size a)
theorem k0_mult437_dvd : ∀ (i : grid0.Coords) (v3352 : BitVec 32) (k0_hw219 : k0_chk219 i v3352), ∀ (k0_h2 : k0_cond2 i = 1#1), 8 ∣ (k0_mult437 v3352).toNat := fun i v3352 k0_hw219 k0_h2 => k0_hw219.1 k0_h2
theorem k0_off885_inb : ∀ (i : grid0.Coords) (v3352 : BitVec 32) (k0_hw219 : k0_chk219 i v3352), ∀ (k0_h2 : k0_cond2 i = 1#1), ∀ a, (k0_off885 v3352) a + S8x128.size a ≤ S131072x128.size a := fun i v3352 k0_hw219 k0_h2 => k0_hw219.2 k0_h2

def k0_off886 (i : grid0.Coords) : Fin 3 → Nat :=
  let c0_2013 : Index := 0#32
  let c0_2014 : Index := 0#32
  let arg1 : BitVec 32 := BitVec.ofNat 32 (i 1).val
  let c2_i32_2009 : BitVec 32 := 2#32
  let v3361 : BitVec 32 := Scalar.muli arg1 c2_i32_2009
  let c0_i32_2010 : BitVec 32 := 0#32
  let v3362 : BitVec 32 := Scalar.addi v3361 c0_i32_2010
  let c256_i32_2011 : BitVec 32 := 256#32
  let v3363 : BitVec 32 := Scalar.muli v3362 c256_i32_2011
  let c218_i32 : BitVec 32 := 218#32
  let v3364 : BitVec 32 := Scalar.addi v3363 c218_i32
  let v3366 : Index := Scalar.indexCast v3364
  ![0, 0, v3366.toNat]
def k0_mult439 (v3367 : BitVec 32) : BitVec 32 :=
  v3367

def k0_mult440 (i : grid0.Coords) : BitVec 32 :=
  let arg1 : BitVec 32 := BitVec.ofNat 32 (i 1).val
  let c2_i32_2009 : BitVec 32 := 2#32
  let v3361 : BitVec 32 := Scalar.muli arg1 c2_i32_2009
  let c0_i32_2010 : BitVec 32 := 0#32
  let v3362 : BitVec 32 := Scalar.addi v3361 c0_i32_2010
  let c256_i32_2011 : BitVec 32 := 256#32
  let v3363 : BitVec 32 := Scalar.muli v3362 c256_i32_2011
  let c218_i32 : BitVec 32 := 218#32
  let v3364 : BitVec 32 := Scalar.addi v3363 c218_i32
  let c8_i32_2015 : BitVec 32 := 8#32
  let v3369 : BitVec 32 := Scalar.muli v3364 c8_i32_2015
  v3369
def k0_off887 (i : grid0.Coords) : Fin 1 → Nat :=
  let c1_i32_2012 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3365 : BitVec 32 := Scalar.subi c1_i32_2012 v9
  ![v3365.toNat]
def k0_off888 (i : grid0.Coords) : Fin 3 → Nat :=
  let c1_i32_2012 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3365 : BitVec 32 := Scalar.subi c1_i32_2012 v9
  let arg1 : BitVec 32 := BitVec.ofNat 32 (i 1).val
  let c2_i32_2009 : BitVec 32 := 2#32
  let v3361 : BitVec 32 := Scalar.muli arg1 c2_i32_2009
  let c0_i32_2010 : BitVec 32 := 0#32
  let v3362 : BitVec 32 := Scalar.addi v3361 c0_i32_2010
  let c256_i32_2011 : BitVec 32 := 256#32
  let v3363 : BitVec 32 := Scalar.muli v3362 c256_i32_2011
  let c218_i32 : BitVec 32 := 218#32
  let v3364 : BitVec 32 := Scalar.addi v3363 c218_i32
  let c8_i32_2015 : BitVec 32 := 8#32
  let v3369 : BitVec 32 := Scalar.muli v3364 c8_i32_2015
  let v3370 : BitVec 32 := v3369
  let c0_i32_2016 : BitVec 32 := 0#32
  ![v3365.toNat, v3370.toNat, 0]
def k0_off889 (v3367 : BitVec 32) : Fin 2 → Nat :=
  let v3368 : BitVec 32 := v3367
  let c0_i32_2017 : BitVec 32 := 0#32
  ![v3368.toNat, 0]

def k0_chk220 (i : grid0.Coords) (v3367 : BitVec 32) : Prop :=
  (∀ (k0_h2 : k0_cond2 i = 1#1), 8 ∣ (k0_mult439 v3367).toNat) ∧
  (∀ (k0_h2 : k0_cond2 i = 1#1), ∀ a, (k0_off889 v3367) a + S8x128.size a ≤ S131072x128.size a)
theorem k0_mult439_dvd : ∀ (i : grid0.Coords) (v3367 : BitVec 32) (k0_hw220 : k0_chk220 i v3367), ∀ (k0_h2 : k0_cond2 i = 1#1), 8 ∣ (k0_mult439 v3367).toNat := fun i v3367 k0_hw220 k0_h2 => k0_hw220.1 k0_h2
theorem k0_off889_inb : ∀ (i : grid0.Coords) (v3367 : BitVec 32) (k0_hw220 : k0_chk220 i v3367), ∀ (k0_h2 : k0_cond2 i = 1#1), ∀ a, (k0_off889 v3367) a + S8x128.size a ≤ S131072x128.size a := fun i v3367 k0_hw220 k0_h2 => k0_hw220.2 k0_h2

def k0_off890 (i : grid0.Coords) : Fin 3 → Nat :=
  let c0_2022 : Index := 0#32
  let c0_2023 : Index := 0#32
  let arg1 : BitVec 32 := BitVec.ofNat 32 (i 1).val
  let c2_i32_2018 : BitVec 32 := 2#32
  let v3376 : BitVec 32 := Scalar.muli arg1 c2_i32_2018
  let c0_i32_2019 : BitVec 32 := 0#32
  let v3377 : BitVec 32 := Scalar.addi v3376 c0_i32_2019
  let c256_i32_2020 : BitVec 32 := 256#32
  let v3378 : BitVec 32 := Scalar.muli v3377 c256_i32_2020
  let c219_i32 : BitVec 32 := 219#32
  let v3379 : BitVec 32 := Scalar.addi v3378 c219_i32
  let v3381 : Index := Scalar.indexCast v3379
  ![0, 0, v3381.toNat]
def k0_mult441 (v3382 : BitVec 32) : BitVec 32 :=
  v3382

def k0_mult442 (i : grid0.Coords) : BitVec 32 :=
  let arg1 : BitVec 32 := BitVec.ofNat 32 (i 1).val
  let c2_i32_2018 : BitVec 32 := 2#32
  let v3376 : BitVec 32 := Scalar.muli arg1 c2_i32_2018
  let c0_i32_2019 : BitVec 32 := 0#32
  let v3377 : BitVec 32 := Scalar.addi v3376 c0_i32_2019
  let c256_i32_2020 : BitVec 32 := 256#32
  let v3378 : BitVec 32 := Scalar.muli v3377 c256_i32_2020
  let c219_i32 : BitVec 32 := 219#32
  let v3379 : BitVec 32 := Scalar.addi v3378 c219_i32
  let c8_i32_2024 : BitVec 32 := 8#32
  let v3384 : BitVec 32 := Scalar.muli v3379 c8_i32_2024
  v3384
def k0_off891 (i : grid0.Coords) : Fin 1 → Nat :=
  let c1_i32_2021 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3380 : BitVec 32 := Scalar.subi c1_i32_2021 v9
  ![v3380.toNat]
def k0_off892 (i : grid0.Coords) : Fin 3 → Nat :=
  let c1_i32_2021 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3380 : BitVec 32 := Scalar.subi c1_i32_2021 v9
  let arg1 : BitVec 32 := BitVec.ofNat 32 (i 1).val
  let c2_i32_2018 : BitVec 32 := 2#32
  let v3376 : BitVec 32 := Scalar.muli arg1 c2_i32_2018
  let c0_i32_2019 : BitVec 32 := 0#32
  let v3377 : BitVec 32 := Scalar.addi v3376 c0_i32_2019
  let c256_i32_2020 : BitVec 32 := 256#32
  let v3378 : BitVec 32 := Scalar.muli v3377 c256_i32_2020
  let c219_i32 : BitVec 32 := 219#32
  let v3379 : BitVec 32 := Scalar.addi v3378 c219_i32
  let c8_i32_2024 : BitVec 32 := 8#32
  let v3384 : BitVec 32 := Scalar.muli v3379 c8_i32_2024
  let v3385 : BitVec 32 := v3384
  let c0_i32_2025 : BitVec 32 := 0#32
  ![v3380.toNat, v3385.toNat, 0]
def k0_off893 (v3382 : BitVec 32) : Fin 2 → Nat :=
  let v3383 : BitVec 32 := v3382
  let c0_i32_2026 : BitVec 32 := 0#32
  ![v3383.toNat, 0]

def k0_chk221 (i : grid0.Coords) (v3382 : BitVec 32) : Prop :=
  (∀ (k0_h2 : k0_cond2 i = 1#1), 8 ∣ (k0_mult441 v3382).toNat) ∧
  (∀ (k0_h2 : k0_cond2 i = 1#1), ∀ a, (k0_off893 v3382) a + S8x128.size a ≤ S131072x128.size a)
theorem k0_mult441_dvd : ∀ (i : grid0.Coords) (v3382 : BitVec 32) (k0_hw221 : k0_chk221 i v3382), ∀ (k0_h2 : k0_cond2 i = 1#1), 8 ∣ (k0_mult441 v3382).toNat := fun i v3382 k0_hw221 k0_h2 => k0_hw221.1 k0_h2
theorem k0_off893_inb : ∀ (i : grid0.Coords) (v3382 : BitVec 32) (k0_hw221 : k0_chk221 i v3382), ∀ (k0_h2 : k0_cond2 i = 1#1), ∀ a, (k0_off893 v3382) a + S8x128.size a ≤ S131072x128.size a := fun i v3382 k0_hw221 k0_h2 => k0_hw221.2 k0_h2

def k0_off894 (i : grid0.Coords) : Fin 3 → Nat :=
  let c0_2031 : Index := 0#32
  let c0_2032 : Index := 0#32
  let arg1 : BitVec 32 := BitVec.ofNat 32 (i 1).val
  let c2_i32_2027 : BitVec 32 := 2#32
  let v3391 : BitVec 32 := Scalar.muli arg1 c2_i32_2027
  let c0_i32_2028 : BitVec 32 := 0#32
  let v3392 : BitVec 32 := Scalar.addi v3391 c0_i32_2028
  let c256_i32_2029 : BitVec 32 := 256#32
  let v3393 : BitVec 32 := Scalar.muli v3392 c256_i32_2029
  let c220_i32 : BitVec 32 := 220#32
  let v3394 : BitVec 32 := Scalar.addi v3393 c220_i32
  let v3396 : Index := Scalar.indexCast v3394
  ![0, 0, v3396.toNat]
def k0_mult443 (v3397 : BitVec 32) : BitVec 32 :=
  v3397

def k0_mult444 (i : grid0.Coords) : BitVec 32 :=
  let arg1 : BitVec 32 := BitVec.ofNat 32 (i 1).val
  let c2_i32_2027 : BitVec 32 := 2#32
  let v3391 : BitVec 32 := Scalar.muli arg1 c2_i32_2027
  let c0_i32_2028 : BitVec 32 := 0#32
  let v3392 : BitVec 32 := Scalar.addi v3391 c0_i32_2028
  let c256_i32_2029 : BitVec 32 := 256#32
  let v3393 : BitVec 32 := Scalar.muli v3392 c256_i32_2029
  let c220_i32 : BitVec 32 := 220#32
  let v3394 : BitVec 32 := Scalar.addi v3393 c220_i32
  let c8_i32_2033 : BitVec 32 := 8#32
  let v3399 : BitVec 32 := Scalar.muli v3394 c8_i32_2033
  v3399
def k0_off895 (i : grid0.Coords) : Fin 1 → Nat :=
  let c1_i32_2030 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3395 : BitVec 32 := Scalar.subi c1_i32_2030 v9
  ![v3395.toNat]
def k0_off896 (i : grid0.Coords) : Fin 3 → Nat :=
  let c1_i32_2030 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3395 : BitVec 32 := Scalar.subi c1_i32_2030 v9
  let arg1 : BitVec 32 := BitVec.ofNat 32 (i 1).val
  let c2_i32_2027 : BitVec 32 := 2#32
  let v3391 : BitVec 32 := Scalar.muli arg1 c2_i32_2027
  let c0_i32_2028 : BitVec 32 := 0#32
  let v3392 : BitVec 32 := Scalar.addi v3391 c0_i32_2028
  let c256_i32_2029 : BitVec 32 := 256#32
  let v3393 : BitVec 32 := Scalar.muli v3392 c256_i32_2029
  let c220_i32 : BitVec 32 := 220#32
  let v3394 : BitVec 32 := Scalar.addi v3393 c220_i32
  let c8_i32_2033 : BitVec 32 := 8#32
  let v3399 : BitVec 32 := Scalar.muli v3394 c8_i32_2033
  let v3400 : BitVec 32 := v3399
  let c0_i32_2034 : BitVec 32 := 0#32
  ![v3395.toNat, v3400.toNat, 0]
def k0_off897 (v3397 : BitVec 32) : Fin 2 → Nat :=
  let v3398 : BitVec 32 := v3397
  let c0_i32_2035 : BitVec 32 := 0#32
  ![v3398.toNat, 0]

def k0_chk222 (i : grid0.Coords) (v3397 : BitVec 32) : Prop :=
  (∀ (k0_h2 : k0_cond2 i = 1#1), 8 ∣ (k0_mult443 v3397).toNat) ∧
  (∀ (k0_h2 : k0_cond2 i = 1#1), ∀ a, (k0_off897 v3397) a + S8x128.size a ≤ S131072x128.size a)
theorem k0_mult443_dvd : ∀ (i : grid0.Coords) (v3397 : BitVec 32) (k0_hw222 : k0_chk222 i v3397), ∀ (k0_h2 : k0_cond2 i = 1#1), 8 ∣ (k0_mult443 v3397).toNat := fun i v3397 k0_hw222 k0_h2 => k0_hw222.1 k0_h2
theorem k0_off897_inb : ∀ (i : grid0.Coords) (v3397 : BitVec 32) (k0_hw222 : k0_chk222 i v3397), ∀ (k0_h2 : k0_cond2 i = 1#1), ∀ a, (k0_off897 v3397) a + S8x128.size a ≤ S131072x128.size a := fun i v3397 k0_hw222 k0_h2 => k0_hw222.2 k0_h2

def k0_off898 (i : grid0.Coords) : Fin 3 → Nat :=
  let c0_2040 : Index := 0#32
  let c0_2041 : Index := 0#32
  let arg1 : BitVec 32 := BitVec.ofNat 32 (i 1).val
  let c2_i32_2036 : BitVec 32 := 2#32
  let v3406 : BitVec 32 := Scalar.muli arg1 c2_i32_2036
  let c0_i32_2037 : BitVec 32 := 0#32
  let v3407 : BitVec 32 := Scalar.addi v3406 c0_i32_2037
  let c256_i32_2038 : BitVec 32 := 256#32
  let v3408 : BitVec 32 := Scalar.muli v3407 c256_i32_2038
  let c221_i32 : BitVec 32 := 221#32
  let v3409 : BitVec 32 := Scalar.addi v3408 c221_i32
  let v3411 : Index := Scalar.indexCast v3409
  ![0, 0, v3411.toNat]
def k0_mult445 (v3412 : BitVec 32) : BitVec 32 :=
  v3412

def k0_mult446 (i : grid0.Coords) : BitVec 32 :=
  let arg1 : BitVec 32 := BitVec.ofNat 32 (i 1).val
  let c2_i32_2036 : BitVec 32 := 2#32
  let v3406 : BitVec 32 := Scalar.muli arg1 c2_i32_2036
  let c0_i32_2037 : BitVec 32 := 0#32
  let v3407 : BitVec 32 := Scalar.addi v3406 c0_i32_2037
  let c256_i32_2038 : BitVec 32 := 256#32
  let v3408 : BitVec 32 := Scalar.muli v3407 c256_i32_2038
  let c221_i32 : BitVec 32 := 221#32
  let v3409 : BitVec 32 := Scalar.addi v3408 c221_i32
  let c8_i32_2042 : BitVec 32 := 8#32
  let v3414 : BitVec 32 := Scalar.muli v3409 c8_i32_2042
  v3414
def k0_off899 (i : grid0.Coords) : Fin 1 → Nat :=
  let c1_i32_2039 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3410 : BitVec 32 := Scalar.subi c1_i32_2039 v9
  ![v3410.toNat]
def k0_off900 (i : grid0.Coords) : Fin 3 → Nat :=
  let c1_i32_2039 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3410 : BitVec 32 := Scalar.subi c1_i32_2039 v9
  let arg1 : BitVec 32 := BitVec.ofNat 32 (i 1).val
  let c2_i32_2036 : BitVec 32 := 2#32
  let v3406 : BitVec 32 := Scalar.muli arg1 c2_i32_2036
  let c0_i32_2037 : BitVec 32 := 0#32
  let v3407 : BitVec 32 := Scalar.addi v3406 c0_i32_2037
  let c256_i32_2038 : BitVec 32 := 256#32
  let v3408 : BitVec 32 := Scalar.muli v3407 c256_i32_2038
  let c221_i32 : BitVec 32 := 221#32
  let v3409 : BitVec 32 := Scalar.addi v3408 c221_i32
  let c8_i32_2042 : BitVec 32 := 8#32
  let v3414 : BitVec 32 := Scalar.muli v3409 c8_i32_2042
  let v3415 : BitVec 32 := v3414
  let c0_i32_2043 : BitVec 32 := 0#32
  ![v3410.toNat, v3415.toNat, 0]
def k0_off901 (v3412 : BitVec 32) : Fin 2 → Nat :=
  let v3413 : BitVec 32 := v3412
  let c0_i32_2044 : BitVec 32 := 0#32
  ![v3413.toNat, 0]

def k0_chk223 (i : grid0.Coords) (v3412 : BitVec 32) : Prop :=
  (∀ (k0_h2 : k0_cond2 i = 1#1), 8 ∣ (k0_mult445 v3412).toNat) ∧
  (∀ (k0_h2 : k0_cond2 i = 1#1), ∀ a, (k0_off901 v3412) a + S8x128.size a ≤ S131072x128.size a)
theorem k0_mult445_dvd : ∀ (i : grid0.Coords) (v3412 : BitVec 32) (k0_hw223 : k0_chk223 i v3412), ∀ (k0_h2 : k0_cond2 i = 1#1), 8 ∣ (k0_mult445 v3412).toNat := fun i v3412 k0_hw223 k0_h2 => k0_hw223.1 k0_h2
theorem k0_off901_inb : ∀ (i : grid0.Coords) (v3412 : BitVec 32) (k0_hw223 : k0_chk223 i v3412), ∀ (k0_h2 : k0_cond2 i = 1#1), ∀ a, (k0_off901 v3412) a + S8x128.size a ≤ S131072x128.size a := fun i v3412 k0_hw223 k0_h2 => k0_hw223.2 k0_h2

def k0_off902 (i : grid0.Coords) : Fin 3 → Nat :=
  let c0_2049 : Index := 0#32
  let c0_2050 : Index := 0#32
  let arg1 : BitVec 32 := BitVec.ofNat 32 (i 1).val
  let c2_i32_2045 : BitVec 32 := 2#32
  let v3421 : BitVec 32 := Scalar.muli arg1 c2_i32_2045
  let c0_i32_2046 : BitVec 32 := 0#32
  let v3422 : BitVec 32 := Scalar.addi v3421 c0_i32_2046
  let c256_i32_2047 : BitVec 32 := 256#32
  let v3423 : BitVec 32 := Scalar.muli v3422 c256_i32_2047
  let c222_i32 : BitVec 32 := 222#32
  let v3424 : BitVec 32 := Scalar.addi v3423 c222_i32
  let v3426 : Index := Scalar.indexCast v3424
  ![0, 0, v3426.toNat]
def k0_mult447 (v3427 : BitVec 32) : BitVec 32 :=
  v3427

def k0_mult448 (i : grid0.Coords) : BitVec 32 :=
  let arg1 : BitVec 32 := BitVec.ofNat 32 (i 1).val
  let c2_i32_2045 : BitVec 32 := 2#32
  let v3421 : BitVec 32 := Scalar.muli arg1 c2_i32_2045
  let c0_i32_2046 : BitVec 32 := 0#32
  let v3422 : BitVec 32 := Scalar.addi v3421 c0_i32_2046
  let c256_i32_2047 : BitVec 32 := 256#32
  let v3423 : BitVec 32 := Scalar.muli v3422 c256_i32_2047
  let c222_i32 : BitVec 32 := 222#32
  let v3424 : BitVec 32 := Scalar.addi v3423 c222_i32
  let c8_i32_2051 : BitVec 32 := 8#32
  let v3429 : BitVec 32 := Scalar.muli v3424 c8_i32_2051
  v3429
def k0_off903 (i : grid0.Coords) : Fin 1 → Nat :=
  let c1_i32_2048 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3425 : BitVec 32 := Scalar.subi c1_i32_2048 v9
  ![v3425.toNat]
def k0_off904 (i : grid0.Coords) : Fin 3 → Nat :=
  let c1_i32_2048 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3425 : BitVec 32 := Scalar.subi c1_i32_2048 v9
  let arg1 : BitVec 32 := BitVec.ofNat 32 (i 1).val
  let c2_i32_2045 : BitVec 32 := 2#32
  let v3421 : BitVec 32 := Scalar.muli arg1 c2_i32_2045
  let c0_i32_2046 : BitVec 32 := 0#32
  let v3422 : BitVec 32 := Scalar.addi v3421 c0_i32_2046
  let c256_i32_2047 : BitVec 32 := 256#32
  let v3423 : BitVec 32 := Scalar.muli v3422 c256_i32_2047
  let c222_i32 : BitVec 32 := 222#32
  let v3424 : BitVec 32 := Scalar.addi v3423 c222_i32
  let c8_i32_2051 : BitVec 32 := 8#32
  let v3429 : BitVec 32 := Scalar.muli v3424 c8_i32_2051
  let v3430 : BitVec 32 := v3429
  let c0_i32_2052 : BitVec 32 := 0#32
  ![v3425.toNat, v3430.toNat, 0]
def k0_off905 (v3427 : BitVec 32) : Fin 2 → Nat :=
  let v3428 : BitVec 32 := v3427
  let c0_i32_2053 : BitVec 32 := 0#32
  ![v3428.toNat, 0]

def k0_chk224 (i : grid0.Coords) (v3427 : BitVec 32) : Prop :=
  (∀ (k0_h2 : k0_cond2 i = 1#1), 8 ∣ (k0_mult447 v3427).toNat) ∧
  (∀ (k0_h2 : k0_cond2 i = 1#1), ∀ a, (k0_off905 v3427) a + S8x128.size a ≤ S131072x128.size a)
theorem k0_mult447_dvd : ∀ (i : grid0.Coords) (v3427 : BitVec 32) (k0_hw224 : k0_chk224 i v3427), ∀ (k0_h2 : k0_cond2 i = 1#1), 8 ∣ (k0_mult447 v3427).toNat := fun i v3427 k0_hw224 k0_h2 => k0_hw224.1 k0_h2
theorem k0_off905_inb : ∀ (i : grid0.Coords) (v3427 : BitVec 32) (k0_hw224 : k0_chk224 i v3427), ∀ (k0_h2 : k0_cond2 i = 1#1), ∀ a, (k0_off905 v3427) a + S8x128.size a ≤ S131072x128.size a := fun i v3427 k0_hw224 k0_h2 => k0_hw224.2 k0_h2

def k0_off906 (i : grid0.Coords) : Fin 3 → Nat :=
  let c0_2058 : Index := 0#32
  let c0_2059 : Index := 0#32
  let arg1 : BitVec 32 := BitVec.ofNat 32 (i 1).val
  let c2_i32_2054 : BitVec 32 := 2#32
  let v3436 : BitVec 32 := Scalar.muli arg1 c2_i32_2054
  let c0_i32_2055 : BitVec 32 := 0#32
  let v3437 : BitVec 32 := Scalar.addi v3436 c0_i32_2055
  let c256_i32_2056 : BitVec 32 := 256#32
  let v3438 : BitVec 32 := Scalar.muli v3437 c256_i32_2056
  let c223_i32 : BitVec 32 := 223#32
  let v3439 : BitVec 32 := Scalar.addi v3438 c223_i32
  let v3441 : Index := Scalar.indexCast v3439
  ![0, 0, v3441.toNat]
def k0_mult449 (v3442 : BitVec 32) : BitVec 32 :=
  v3442

def k0_mult450 (i : grid0.Coords) : BitVec 32 :=
  let arg1 : BitVec 32 := BitVec.ofNat 32 (i 1).val
  let c2_i32_2054 : BitVec 32 := 2#32
  let v3436 : BitVec 32 := Scalar.muli arg1 c2_i32_2054
  let c0_i32_2055 : BitVec 32 := 0#32
  let v3437 : BitVec 32 := Scalar.addi v3436 c0_i32_2055
  let c256_i32_2056 : BitVec 32 := 256#32
  let v3438 : BitVec 32 := Scalar.muli v3437 c256_i32_2056
  let c223_i32 : BitVec 32 := 223#32
  let v3439 : BitVec 32 := Scalar.addi v3438 c223_i32
  let c8_i32_2060 : BitVec 32 := 8#32
  let v3444 : BitVec 32 := Scalar.muli v3439 c8_i32_2060
  v3444
def k0_off907 (i : grid0.Coords) : Fin 1 → Nat :=
  let c1_i32_2057 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3440 : BitVec 32 := Scalar.subi c1_i32_2057 v9
  ![v3440.toNat]
def k0_off908 (i : grid0.Coords) : Fin 3 → Nat :=
  let c1_i32_2057 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3440 : BitVec 32 := Scalar.subi c1_i32_2057 v9
  let arg1 : BitVec 32 := BitVec.ofNat 32 (i 1).val
  let c2_i32_2054 : BitVec 32 := 2#32
  let v3436 : BitVec 32 := Scalar.muli arg1 c2_i32_2054
  let c0_i32_2055 : BitVec 32 := 0#32
  let v3437 : BitVec 32 := Scalar.addi v3436 c0_i32_2055
  let c256_i32_2056 : BitVec 32 := 256#32
  let v3438 : BitVec 32 := Scalar.muli v3437 c256_i32_2056
  let c223_i32 : BitVec 32 := 223#32
  let v3439 : BitVec 32 := Scalar.addi v3438 c223_i32
  let c8_i32_2060 : BitVec 32 := 8#32
  let v3444 : BitVec 32 := Scalar.muli v3439 c8_i32_2060
  let v3445 : BitVec 32 := v3444
  let c0_i32_2061 : BitVec 32 := 0#32
  ![v3440.toNat, v3445.toNat, 0]
def k0_off909 (v3442 : BitVec 32) : Fin 2 → Nat :=
  let v3443 : BitVec 32 := v3442
  let c0_i32_2062 : BitVec 32 := 0#32
  ![v3443.toNat, 0]

def k0_chk225 (i : grid0.Coords) (v3442 : BitVec 32) : Prop :=
  (∀ (k0_h2 : k0_cond2 i = 1#1), 8 ∣ (k0_mult449 v3442).toNat) ∧
  (∀ (k0_h2 : k0_cond2 i = 1#1), ∀ a, (k0_off909 v3442) a + S8x128.size a ≤ S131072x128.size a)
theorem k0_mult449_dvd : ∀ (i : grid0.Coords) (v3442 : BitVec 32) (k0_hw225 : k0_chk225 i v3442), ∀ (k0_h2 : k0_cond2 i = 1#1), 8 ∣ (k0_mult449 v3442).toNat := fun i v3442 k0_hw225 k0_h2 => k0_hw225.1 k0_h2
theorem k0_off909_inb : ∀ (i : grid0.Coords) (v3442 : BitVec 32) (k0_hw225 : k0_chk225 i v3442), ∀ (k0_h2 : k0_cond2 i = 1#1), ∀ a, (k0_off909 v3442) a + S8x128.size a ≤ S131072x128.size a := fun i v3442 k0_hw225 k0_h2 => k0_hw225.2 k0_h2

def k0_off910 (i : grid0.Coords) : Fin 3 → Nat :=
  let c0_2067 : Index := 0#32
  let c0_2068 : Index := 0#32
  let arg1 : BitVec 32 := BitVec.ofNat 32 (i 1).val
  let c2_i32_2063 : BitVec 32 := 2#32
  let v3451 : BitVec 32 := Scalar.muli arg1 c2_i32_2063
  let c0_i32_2064 : BitVec 32 := 0#32
  let v3452 : BitVec 32 := Scalar.addi v3451 c0_i32_2064
  let c256_i32_2065 : BitVec 32 := 256#32
  let v3453 : BitVec 32 := Scalar.muli v3452 c256_i32_2065
  let c224_i32 : BitVec 32 := 224#32
  let v3454 : BitVec 32 := Scalar.addi v3453 c224_i32
  let v3456 : Index := Scalar.indexCast v3454
  ![0, 0, v3456.toNat]
def k0_mult451 (v3457 : BitVec 32) : BitVec 32 :=
  v3457

def k0_mult452 (i : grid0.Coords) : BitVec 32 :=
  let arg1 : BitVec 32 := BitVec.ofNat 32 (i 1).val
  let c2_i32_2063 : BitVec 32 := 2#32
  let v3451 : BitVec 32 := Scalar.muli arg1 c2_i32_2063
  let c0_i32_2064 : BitVec 32 := 0#32
  let v3452 : BitVec 32 := Scalar.addi v3451 c0_i32_2064
  let c256_i32_2065 : BitVec 32 := 256#32
  let v3453 : BitVec 32 := Scalar.muli v3452 c256_i32_2065
  let c224_i32 : BitVec 32 := 224#32
  let v3454 : BitVec 32 := Scalar.addi v3453 c224_i32
  let c8_i32_2069 : BitVec 32 := 8#32
  let v3459 : BitVec 32 := Scalar.muli v3454 c8_i32_2069
  v3459
def k0_off911 (i : grid0.Coords) : Fin 1 → Nat :=
  let c1_i32_2066 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3455 : BitVec 32 := Scalar.subi c1_i32_2066 v9
  ![v3455.toNat]
def k0_off912 (i : grid0.Coords) : Fin 3 → Nat :=
  let c1_i32_2066 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3455 : BitVec 32 := Scalar.subi c1_i32_2066 v9
  let arg1 : BitVec 32 := BitVec.ofNat 32 (i 1).val
  let c2_i32_2063 : BitVec 32 := 2#32
  let v3451 : BitVec 32 := Scalar.muli arg1 c2_i32_2063
  let c0_i32_2064 : BitVec 32 := 0#32
  let v3452 : BitVec 32 := Scalar.addi v3451 c0_i32_2064
  let c256_i32_2065 : BitVec 32 := 256#32
  let v3453 : BitVec 32 := Scalar.muli v3452 c256_i32_2065
  let c224_i32 : BitVec 32 := 224#32
  let v3454 : BitVec 32 := Scalar.addi v3453 c224_i32
  let c8_i32_2069 : BitVec 32 := 8#32
  let v3459 : BitVec 32 := Scalar.muli v3454 c8_i32_2069
  let v3460 : BitVec 32 := v3459
  let c0_i32_2070 : BitVec 32 := 0#32
  ![v3455.toNat, v3460.toNat, 0]
def k0_off913 (v3457 : BitVec 32) : Fin 2 → Nat :=
  let v3458 : BitVec 32 := v3457
  let c0_i32_2071 : BitVec 32 := 0#32
  ![v3458.toNat, 0]

def k0_chk226 (i : grid0.Coords) (v3457 : BitVec 32) : Prop :=
  (∀ (k0_h2 : k0_cond2 i = 1#1), 8 ∣ (k0_mult451 v3457).toNat) ∧
  (∀ (k0_h2 : k0_cond2 i = 1#1), ∀ a, (k0_off913 v3457) a + S8x128.size a ≤ S131072x128.size a)
theorem k0_mult451_dvd : ∀ (i : grid0.Coords) (v3457 : BitVec 32) (k0_hw226 : k0_chk226 i v3457), ∀ (k0_h2 : k0_cond2 i = 1#1), 8 ∣ (k0_mult451 v3457).toNat := fun i v3457 k0_hw226 k0_h2 => k0_hw226.1 k0_h2
theorem k0_off913_inb : ∀ (i : grid0.Coords) (v3457 : BitVec 32) (k0_hw226 : k0_chk226 i v3457), ∀ (k0_h2 : k0_cond2 i = 1#1), ∀ a, (k0_off913 v3457) a + S8x128.size a ≤ S131072x128.size a := fun i v3457 k0_hw226 k0_h2 => k0_hw226.2 k0_h2

def k0_off914 (i : grid0.Coords) : Fin 3 → Nat :=
  let c0_2076 : Index := 0#32
  let c0_2077 : Index := 0#32
  let arg1 : BitVec 32 := BitVec.ofNat 32 (i 1).val
  let c2_i32_2072 : BitVec 32 := 2#32
  let v3466 : BitVec 32 := Scalar.muli arg1 c2_i32_2072
  let c0_i32_2073 : BitVec 32 := 0#32
  let v3467 : BitVec 32 := Scalar.addi v3466 c0_i32_2073
  let c256_i32_2074 : BitVec 32 := 256#32
  let v3468 : BitVec 32 := Scalar.muli v3467 c256_i32_2074
  let c225_i32 : BitVec 32 := 225#32
  let v3469 : BitVec 32 := Scalar.addi v3468 c225_i32
  let v3471 : Index := Scalar.indexCast v3469
  ![0, 0, v3471.toNat]
def k0_mult453 (v3472 : BitVec 32) : BitVec 32 :=
  v3472

def k0_mult454 (i : grid0.Coords) : BitVec 32 :=
  let arg1 : BitVec 32 := BitVec.ofNat 32 (i 1).val
  let c2_i32_2072 : BitVec 32 := 2#32
  let v3466 : BitVec 32 := Scalar.muli arg1 c2_i32_2072
  let c0_i32_2073 : BitVec 32 := 0#32
  let v3467 : BitVec 32 := Scalar.addi v3466 c0_i32_2073
  let c256_i32_2074 : BitVec 32 := 256#32
  let v3468 : BitVec 32 := Scalar.muli v3467 c256_i32_2074
  let c225_i32 : BitVec 32 := 225#32
  let v3469 : BitVec 32 := Scalar.addi v3468 c225_i32
  let c8_i32_2078 : BitVec 32 := 8#32
  let v3474 : BitVec 32 := Scalar.muli v3469 c8_i32_2078
  v3474
def k0_off915 (i : grid0.Coords) : Fin 1 → Nat :=
  let c1_i32_2075 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3470 : BitVec 32 := Scalar.subi c1_i32_2075 v9
  ![v3470.toNat]
def k0_off916 (i : grid0.Coords) : Fin 3 → Nat :=
  let c1_i32_2075 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3470 : BitVec 32 := Scalar.subi c1_i32_2075 v9
  let arg1 : BitVec 32 := BitVec.ofNat 32 (i 1).val
  let c2_i32_2072 : BitVec 32 := 2#32
  let v3466 : BitVec 32 := Scalar.muli arg1 c2_i32_2072
  let c0_i32_2073 : BitVec 32 := 0#32
  let v3467 : BitVec 32 := Scalar.addi v3466 c0_i32_2073
  let c256_i32_2074 : BitVec 32 := 256#32
  let v3468 : BitVec 32 := Scalar.muli v3467 c256_i32_2074
  let c225_i32 : BitVec 32 := 225#32
  let v3469 : BitVec 32 := Scalar.addi v3468 c225_i32
  let c8_i32_2078 : BitVec 32 := 8#32
  let v3474 : BitVec 32 := Scalar.muli v3469 c8_i32_2078
  let v3475 : BitVec 32 := v3474
  let c0_i32_2079 : BitVec 32 := 0#32
  ![v3470.toNat, v3475.toNat, 0]
def k0_off917 (v3472 : BitVec 32) : Fin 2 → Nat :=
  let v3473 : BitVec 32 := v3472
  let c0_i32_2080 : BitVec 32 := 0#32
  ![v3473.toNat, 0]

def k0_chk227 (i : grid0.Coords) (v3472 : BitVec 32) : Prop :=
  (∀ (k0_h2 : k0_cond2 i = 1#1), 8 ∣ (k0_mult453 v3472).toNat) ∧
  (∀ (k0_h2 : k0_cond2 i = 1#1), ∀ a, (k0_off917 v3472) a + S8x128.size a ≤ S131072x128.size a)
theorem k0_mult453_dvd : ∀ (i : grid0.Coords) (v3472 : BitVec 32) (k0_hw227 : k0_chk227 i v3472), ∀ (k0_h2 : k0_cond2 i = 1#1), 8 ∣ (k0_mult453 v3472).toNat := fun i v3472 k0_hw227 k0_h2 => k0_hw227.1 k0_h2
theorem k0_off917_inb : ∀ (i : grid0.Coords) (v3472 : BitVec 32) (k0_hw227 : k0_chk227 i v3472), ∀ (k0_h2 : k0_cond2 i = 1#1), ∀ a, (k0_off917 v3472) a + S8x128.size a ≤ S131072x128.size a := fun i v3472 k0_hw227 k0_h2 => k0_hw227.2 k0_h2

def k0_off918 (i : grid0.Coords) : Fin 3 → Nat :=
  let c0_2085 : Index := 0#32
  let c0_2086 : Index := 0#32
  let arg1 : BitVec 32 := BitVec.ofNat 32 (i 1).val
  let c2_i32_2081 : BitVec 32 := 2#32
  let v3481 : BitVec 32 := Scalar.muli arg1 c2_i32_2081
  let c0_i32_2082 : BitVec 32 := 0#32
  let v3482 : BitVec 32 := Scalar.addi v3481 c0_i32_2082
  let c256_i32_2083 : BitVec 32 := 256#32
  let v3483 : BitVec 32 := Scalar.muli v3482 c256_i32_2083
  let c226_i32 : BitVec 32 := 226#32
  let v3484 : BitVec 32 := Scalar.addi v3483 c226_i32
  let v3486 : Index := Scalar.indexCast v3484
  ![0, 0, v3486.toNat]
def k0_mult455 (v3487 : BitVec 32) : BitVec 32 :=
  v3487

def k0_mult456 (i : grid0.Coords) : BitVec 32 :=
  let arg1 : BitVec 32 := BitVec.ofNat 32 (i 1).val
  let c2_i32_2081 : BitVec 32 := 2#32
  let v3481 : BitVec 32 := Scalar.muli arg1 c2_i32_2081
  let c0_i32_2082 : BitVec 32 := 0#32
  let v3482 : BitVec 32 := Scalar.addi v3481 c0_i32_2082
  let c256_i32_2083 : BitVec 32 := 256#32
  let v3483 : BitVec 32 := Scalar.muli v3482 c256_i32_2083
  let c226_i32 : BitVec 32 := 226#32
  let v3484 : BitVec 32 := Scalar.addi v3483 c226_i32
  let c8_i32_2087 : BitVec 32 := 8#32
  let v3489 : BitVec 32 := Scalar.muli v3484 c8_i32_2087
  v3489
def k0_off919 (i : grid0.Coords) : Fin 1 → Nat :=
  let c1_i32_2084 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3485 : BitVec 32 := Scalar.subi c1_i32_2084 v9
  ![v3485.toNat]
def k0_off920 (i : grid0.Coords) : Fin 3 → Nat :=
  let c1_i32_2084 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3485 : BitVec 32 := Scalar.subi c1_i32_2084 v9
  let arg1 : BitVec 32 := BitVec.ofNat 32 (i 1).val
  let c2_i32_2081 : BitVec 32 := 2#32
  let v3481 : BitVec 32 := Scalar.muli arg1 c2_i32_2081
  let c0_i32_2082 : BitVec 32 := 0#32
  let v3482 : BitVec 32 := Scalar.addi v3481 c0_i32_2082
  let c256_i32_2083 : BitVec 32 := 256#32
  let v3483 : BitVec 32 := Scalar.muli v3482 c256_i32_2083
  let c226_i32 : BitVec 32 := 226#32
  let v3484 : BitVec 32 := Scalar.addi v3483 c226_i32
  let c8_i32_2087 : BitVec 32 := 8#32
  let v3489 : BitVec 32 := Scalar.muli v3484 c8_i32_2087
  let v3490 : BitVec 32 := v3489
  let c0_i32_2088 : BitVec 32 := 0#32
  ![v3485.toNat, v3490.toNat, 0]
def k0_off921 (v3487 : BitVec 32) : Fin 2 → Nat :=
  let v3488 : BitVec 32 := v3487
  let c0_i32_2089 : BitVec 32 := 0#32
  ![v3488.toNat, 0]

def k0_chk228 (i : grid0.Coords) (v3487 : BitVec 32) : Prop :=
  (∀ (k0_h2 : k0_cond2 i = 1#1), 8 ∣ (k0_mult455 v3487).toNat) ∧
  (∀ (k0_h2 : k0_cond2 i = 1#1), ∀ a, (k0_off921 v3487) a + S8x128.size a ≤ S131072x128.size a)
theorem k0_mult455_dvd : ∀ (i : grid0.Coords) (v3487 : BitVec 32) (k0_hw228 : k0_chk228 i v3487), ∀ (k0_h2 : k0_cond2 i = 1#1), 8 ∣ (k0_mult455 v3487).toNat := fun i v3487 k0_hw228 k0_h2 => k0_hw228.1 k0_h2
theorem k0_off921_inb : ∀ (i : grid0.Coords) (v3487 : BitVec 32) (k0_hw228 : k0_chk228 i v3487), ∀ (k0_h2 : k0_cond2 i = 1#1), ∀ a, (k0_off921 v3487) a + S8x128.size a ≤ S131072x128.size a := fun i v3487 k0_hw228 k0_h2 => k0_hw228.2 k0_h2

def k0_off922 (i : grid0.Coords) : Fin 3 → Nat :=
  let c0_2094 : Index := 0#32
  let c0_2095 : Index := 0#32
  let arg1 : BitVec 32 := BitVec.ofNat 32 (i 1).val
  let c2_i32_2090 : BitVec 32 := 2#32
  let v3496 : BitVec 32 := Scalar.muli arg1 c2_i32_2090
  let c0_i32_2091 : BitVec 32 := 0#32
  let v3497 : BitVec 32 := Scalar.addi v3496 c0_i32_2091
  let c256_i32_2092 : BitVec 32 := 256#32
  let v3498 : BitVec 32 := Scalar.muli v3497 c256_i32_2092
  let c227_i32 : BitVec 32 := 227#32
  let v3499 : BitVec 32 := Scalar.addi v3498 c227_i32
  let v3501 : Index := Scalar.indexCast v3499
  ![0, 0, v3501.toNat]
def k0_mult457 (v3502 : BitVec 32) : BitVec 32 :=
  v3502

def k0_mult458 (i : grid0.Coords) : BitVec 32 :=
  let arg1 : BitVec 32 := BitVec.ofNat 32 (i 1).val
  let c2_i32_2090 : BitVec 32 := 2#32
  let v3496 : BitVec 32 := Scalar.muli arg1 c2_i32_2090
  let c0_i32_2091 : BitVec 32 := 0#32
  let v3497 : BitVec 32 := Scalar.addi v3496 c0_i32_2091
  let c256_i32_2092 : BitVec 32 := 256#32
  let v3498 : BitVec 32 := Scalar.muli v3497 c256_i32_2092
  let c227_i32 : BitVec 32 := 227#32
  let v3499 : BitVec 32 := Scalar.addi v3498 c227_i32
  let c8_i32_2096 : BitVec 32 := 8#32
  let v3504 : BitVec 32 := Scalar.muli v3499 c8_i32_2096
  v3504
def k0_off923 (i : grid0.Coords) : Fin 1 → Nat :=
  let c1_i32_2093 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3500 : BitVec 32 := Scalar.subi c1_i32_2093 v9
  ![v3500.toNat]
def k0_off924 (i : grid0.Coords) : Fin 3 → Nat :=
  let c1_i32_2093 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3500 : BitVec 32 := Scalar.subi c1_i32_2093 v9
  let arg1 : BitVec 32 := BitVec.ofNat 32 (i 1).val
  let c2_i32_2090 : BitVec 32 := 2#32
  let v3496 : BitVec 32 := Scalar.muli arg1 c2_i32_2090
  let c0_i32_2091 : BitVec 32 := 0#32
  let v3497 : BitVec 32 := Scalar.addi v3496 c0_i32_2091
  let c256_i32_2092 : BitVec 32 := 256#32
  let v3498 : BitVec 32 := Scalar.muli v3497 c256_i32_2092
  let c227_i32 : BitVec 32 := 227#32
  let v3499 : BitVec 32 := Scalar.addi v3498 c227_i32
  let c8_i32_2096 : BitVec 32 := 8#32
  let v3504 : BitVec 32 := Scalar.muli v3499 c8_i32_2096
  let v3505 : BitVec 32 := v3504
  let c0_i32_2097 : BitVec 32 := 0#32
  ![v3500.toNat, v3505.toNat, 0]
def k0_off925 (v3502 : BitVec 32) : Fin 2 → Nat :=
  let v3503 : BitVec 32 := v3502
  let c0_i32_2098 : BitVec 32 := 0#32
  ![v3503.toNat, 0]

def k0_chk229 (i : grid0.Coords) (v3502 : BitVec 32) : Prop :=
  (∀ (k0_h2 : k0_cond2 i = 1#1), 8 ∣ (k0_mult457 v3502).toNat) ∧
  (∀ (k0_h2 : k0_cond2 i = 1#1), ∀ a, (k0_off925 v3502) a + S8x128.size a ≤ S131072x128.size a)
theorem k0_mult457_dvd : ∀ (i : grid0.Coords) (v3502 : BitVec 32) (k0_hw229 : k0_chk229 i v3502), ∀ (k0_h2 : k0_cond2 i = 1#1), 8 ∣ (k0_mult457 v3502).toNat := fun i v3502 k0_hw229 k0_h2 => k0_hw229.1 k0_h2
theorem k0_off925_inb : ∀ (i : grid0.Coords) (v3502 : BitVec 32) (k0_hw229 : k0_chk229 i v3502), ∀ (k0_h2 : k0_cond2 i = 1#1), ∀ a, (k0_off925 v3502) a + S8x128.size a ≤ S131072x128.size a := fun i v3502 k0_hw229 k0_h2 => k0_hw229.2 k0_h2

def k0_off926 (i : grid0.Coords) : Fin 3 → Nat :=
  let c0_2103 : Index := 0#32
  let c0_2104 : Index := 0#32
  let arg1 : BitVec 32 := BitVec.ofNat 32 (i 1).val
  let c2_i32_2099 : BitVec 32 := 2#32
  let v3511 : BitVec 32 := Scalar.muli arg1 c2_i32_2099
  let c0_i32_2100 : BitVec 32 := 0#32
  let v3512 : BitVec 32 := Scalar.addi v3511 c0_i32_2100
  let c256_i32_2101 : BitVec 32 := 256#32
  let v3513 : BitVec 32 := Scalar.muli v3512 c256_i32_2101
  let c228_i32 : BitVec 32 := 228#32
  let v3514 : BitVec 32 := Scalar.addi v3513 c228_i32
  let v3516 : Index := Scalar.indexCast v3514
  ![0, 0, v3516.toNat]
def k0_mult459 (v3517 : BitVec 32) : BitVec 32 :=
  v3517

def k0_mult460 (i : grid0.Coords) : BitVec 32 :=
  let arg1 : BitVec 32 := BitVec.ofNat 32 (i 1).val
  let c2_i32_2099 : BitVec 32 := 2#32
  let v3511 : BitVec 32 := Scalar.muli arg1 c2_i32_2099
  let c0_i32_2100 : BitVec 32 := 0#32
  let v3512 : BitVec 32 := Scalar.addi v3511 c0_i32_2100
  let c256_i32_2101 : BitVec 32 := 256#32
  let v3513 : BitVec 32 := Scalar.muli v3512 c256_i32_2101
  let c228_i32 : BitVec 32 := 228#32
  let v3514 : BitVec 32 := Scalar.addi v3513 c228_i32
  let c8_i32_2105 : BitVec 32 := 8#32
  let v3519 : BitVec 32 := Scalar.muli v3514 c8_i32_2105
  v3519
def k0_off927 (i : grid0.Coords) : Fin 1 → Nat :=
  let c1_i32_2102 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3515 : BitVec 32 := Scalar.subi c1_i32_2102 v9
  ![v3515.toNat]
def k0_off928 (i : grid0.Coords) : Fin 3 → Nat :=
  let c1_i32_2102 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3515 : BitVec 32 := Scalar.subi c1_i32_2102 v9
  let arg1 : BitVec 32 := BitVec.ofNat 32 (i 1).val
  let c2_i32_2099 : BitVec 32 := 2#32
  let v3511 : BitVec 32 := Scalar.muli arg1 c2_i32_2099
  let c0_i32_2100 : BitVec 32 := 0#32
  let v3512 : BitVec 32 := Scalar.addi v3511 c0_i32_2100
  let c256_i32_2101 : BitVec 32 := 256#32
  let v3513 : BitVec 32 := Scalar.muli v3512 c256_i32_2101
  let c228_i32 : BitVec 32 := 228#32
  let v3514 : BitVec 32 := Scalar.addi v3513 c228_i32
  let c8_i32_2105 : BitVec 32 := 8#32
  let v3519 : BitVec 32 := Scalar.muli v3514 c8_i32_2105
  let v3520 : BitVec 32 := v3519
  let c0_i32_2106 : BitVec 32 := 0#32
  ![v3515.toNat, v3520.toNat, 0]
def k0_off929 (v3517 : BitVec 32) : Fin 2 → Nat :=
  let v3518 : BitVec 32 := v3517
  let c0_i32_2107 : BitVec 32 := 0#32
  ![v3518.toNat, 0]

def k0_chk230 (i : grid0.Coords) (v3517 : BitVec 32) : Prop :=
  (∀ (k0_h2 : k0_cond2 i = 1#1), 8 ∣ (k0_mult459 v3517).toNat) ∧
  (∀ (k0_h2 : k0_cond2 i = 1#1), ∀ a, (k0_off929 v3517) a + S8x128.size a ≤ S131072x128.size a)
theorem k0_mult459_dvd : ∀ (i : grid0.Coords) (v3517 : BitVec 32) (k0_hw230 : k0_chk230 i v3517), ∀ (k0_h2 : k0_cond2 i = 1#1), 8 ∣ (k0_mult459 v3517).toNat := fun i v3517 k0_hw230 k0_h2 => k0_hw230.1 k0_h2
theorem k0_off929_inb : ∀ (i : grid0.Coords) (v3517 : BitVec 32) (k0_hw230 : k0_chk230 i v3517), ∀ (k0_h2 : k0_cond2 i = 1#1), ∀ a, (k0_off929 v3517) a + S8x128.size a ≤ S131072x128.size a := fun i v3517 k0_hw230 k0_h2 => k0_hw230.2 k0_h2

def k0_off930 (i : grid0.Coords) : Fin 3 → Nat :=
  let c0_2112 : Index := 0#32
  let c0_2113 : Index := 0#32
  let arg1 : BitVec 32 := BitVec.ofNat 32 (i 1).val
  let c2_i32_2108 : BitVec 32 := 2#32
  let v3526 : BitVec 32 := Scalar.muli arg1 c2_i32_2108
  let c0_i32_2109 : BitVec 32 := 0#32
  let v3527 : BitVec 32 := Scalar.addi v3526 c0_i32_2109
  let c256_i32_2110 : BitVec 32 := 256#32
  let v3528 : BitVec 32 := Scalar.muli v3527 c256_i32_2110
  let c229_i32 : BitVec 32 := 229#32
  let v3529 : BitVec 32 := Scalar.addi v3528 c229_i32
  let v3531 : Index := Scalar.indexCast v3529
  ![0, 0, v3531.toNat]
def k0_mult461 (v3532 : BitVec 32) : BitVec 32 :=
  v3532

def k0_mult462 (i : grid0.Coords) : BitVec 32 :=
  let arg1 : BitVec 32 := BitVec.ofNat 32 (i 1).val
  let c2_i32_2108 : BitVec 32 := 2#32
  let v3526 : BitVec 32 := Scalar.muli arg1 c2_i32_2108
  let c0_i32_2109 : BitVec 32 := 0#32
  let v3527 : BitVec 32 := Scalar.addi v3526 c0_i32_2109
  let c256_i32_2110 : BitVec 32 := 256#32
  let v3528 : BitVec 32 := Scalar.muli v3527 c256_i32_2110
  let c229_i32 : BitVec 32 := 229#32
  let v3529 : BitVec 32 := Scalar.addi v3528 c229_i32
  let c8_i32_2114 : BitVec 32 := 8#32
  let v3534 : BitVec 32 := Scalar.muli v3529 c8_i32_2114
  v3534
def k0_off931 (i : grid0.Coords) : Fin 1 → Nat :=
  let c1_i32_2111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3530 : BitVec 32 := Scalar.subi c1_i32_2111 v9
  ![v3530.toNat]
def k0_off932 (i : grid0.Coords) : Fin 3 → Nat :=
  let c1_i32_2111 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3530 : BitVec 32 := Scalar.subi c1_i32_2111 v9
  let arg1 : BitVec 32 := BitVec.ofNat 32 (i 1).val
  let c2_i32_2108 : BitVec 32 := 2#32
  let v3526 : BitVec 32 := Scalar.muli arg1 c2_i32_2108
  let c0_i32_2109 : BitVec 32 := 0#32
  let v3527 : BitVec 32 := Scalar.addi v3526 c0_i32_2109
  let c256_i32_2110 : BitVec 32 := 256#32
  let v3528 : BitVec 32 := Scalar.muli v3527 c256_i32_2110
  let c229_i32 : BitVec 32 := 229#32
  let v3529 : BitVec 32 := Scalar.addi v3528 c229_i32
  let c8_i32_2114 : BitVec 32 := 8#32
  let v3534 : BitVec 32 := Scalar.muli v3529 c8_i32_2114
  let v3535 : BitVec 32 := v3534
  let c0_i32_2115 : BitVec 32 := 0#32
  ![v3530.toNat, v3535.toNat, 0]
def k0_off933 (v3532 : BitVec 32) : Fin 2 → Nat :=
  let v3533 : BitVec 32 := v3532
  let c0_i32_2116 : BitVec 32 := 0#32
  ![v3533.toNat, 0]

def k0_chk231 (i : grid0.Coords) (v3532 : BitVec 32) : Prop :=
  (∀ (k0_h2 : k0_cond2 i = 1#1), 8 ∣ (k0_mult461 v3532).toNat) ∧
  (∀ (k0_h2 : k0_cond2 i = 1#1), ∀ a, (k0_off933 v3532) a + S8x128.size a ≤ S131072x128.size a)
theorem k0_mult461_dvd : ∀ (i : grid0.Coords) (v3532 : BitVec 32) (k0_hw231 : k0_chk231 i v3532), ∀ (k0_h2 : k0_cond2 i = 1#1), 8 ∣ (k0_mult461 v3532).toNat := fun i v3532 k0_hw231 k0_h2 => k0_hw231.1 k0_h2
theorem k0_off933_inb : ∀ (i : grid0.Coords) (v3532 : BitVec 32) (k0_hw231 : k0_chk231 i v3532), ∀ (k0_h2 : k0_cond2 i = 1#1), ∀ a, (k0_off933 v3532) a + S8x128.size a ≤ S131072x128.size a := fun i v3532 k0_hw231 k0_h2 => k0_hw231.2 k0_h2

def k0_off934 (i : grid0.Coords) : Fin 3 → Nat :=
  let c0_2121 : Index := 0#32
  let c0_2122 : Index := 0#32
  let arg1 : BitVec 32 := BitVec.ofNat 32 (i 1).val
  let c2_i32_2117 : BitVec 32 := 2#32
  let v3541 : BitVec 32 := Scalar.muli arg1 c2_i32_2117
  let c0_i32_2118 : BitVec 32 := 0#32
  let v3542 : BitVec 32 := Scalar.addi v3541 c0_i32_2118
  let c256_i32_2119 : BitVec 32 := 256#32
  let v3543 : BitVec 32 := Scalar.muli v3542 c256_i32_2119
  let c230_i32 : BitVec 32 := 230#32
  let v3544 : BitVec 32 := Scalar.addi v3543 c230_i32
  let v3546 : Index := Scalar.indexCast v3544
  ![0, 0, v3546.toNat]
def k0_mult463 (v3547 : BitVec 32) : BitVec 32 :=
  v3547

def k0_mult464 (i : grid0.Coords) : BitVec 32 :=
  let arg1 : BitVec 32 := BitVec.ofNat 32 (i 1).val
  let c2_i32_2117 : BitVec 32 := 2#32
  let v3541 : BitVec 32 := Scalar.muli arg1 c2_i32_2117
  let c0_i32_2118 : BitVec 32 := 0#32
  let v3542 : BitVec 32 := Scalar.addi v3541 c0_i32_2118
  let c256_i32_2119 : BitVec 32 := 256#32
  let v3543 : BitVec 32 := Scalar.muli v3542 c256_i32_2119
  let c230_i32 : BitVec 32 := 230#32
  let v3544 : BitVec 32 := Scalar.addi v3543 c230_i32
  let c8_i32_2123 : BitVec 32 := 8#32
  let v3549 : BitVec 32 := Scalar.muli v3544 c8_i32_2123
  v3549
def k0_off935 (i : grid0.Coords) : Fin 1 → Nat :=
  let c1_i32_2120 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3545 : BitVec 32 := Scalar.subi c1_i32_2120 v9
  ![v3545.toNat]
def k0_off936 (i : grid0.Coords) : Fin 3 → Nat :=
  let c1_i32_2120 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3545 : BitVec 32 := Scalar.subi c1_i32_2120 v9
  let arg1 : BitVec 32 := BitVec.ofNat 32 (i 1).val
  let c2_i32_2117 : BitVec 32 := 2#32
  let v3541 : BitVec 32 := Scalar.muli arg1 c2_i32_2117
  let c0_i32_2118 : BitVec 32 := 0#32
  let v3542 : BitVec 32 := Scalar.addi v3541 c0_i32_2118
  let c256_i32_2119 : BitVec 32 := 256#32
  let v3543 : BitVec 32 := Scalar.muli v3542 c256_i32_2119
  let c230_i32 : BitVec 32 := 230#32
  let v3544 : BitVec 32 := Scalar.addi v3543 c230_i32
  let c8_i32_2123 : BitVec 32 := 8#32
  let v3549 : BitVec 32 := Scalar.muli v3544 c8_i32_2123
  let v3550 : BitVec 32 := v3549
  let c0_i32_2124 : BitVec 32 := 0#32
  ![v3545.toNat, v3550.toNat, 0]
def k0_off937 (v3547 : BitVec 32) : Fin 2 → Nat :=
  let v3548 : BitVec 32 := v3547
  let c0_i32_2125 : BitVec 32 := 0#32
  ![v3548.toNat, 0]

def k0_chk232 (i : grid0.Coords) (v3547 : BitVec 32) : Prop :=
  (∀ (k0_h2 : k0_cond2 i = 1#1), 8 ∣ (k0_mult463 v3547).toNat) ∧
  (∀ (k0_h2 : k0_cond2 i = 1#1), ∀ a, (k0_off937 v3547) a + S8x128.size a ≤ S131072x128.size a)
theorem k0_mult463_dvd : ∀ (i : grid0.Coords) (v3547 : BitVec 32) (k0_hw232 : k0_chk232 i v3547), ∀ (k0_h2 : k0_cond2 i = 1#1), 8 ∣ (k0_mult463 v3547).toNat := fun i v3547 k0_hw232 k0_h2 => k0_hw232.1 k0_h2
theorem k0_off937_inb : ∀ (i : grid0.Coords) (v3547 : BitVec 32) (k0_hw232 : k0_chk232 i v3547), ∀ (k0_h2 : k0_cond2 i = 1#1), ∀ a, (k0_off937 v3547) a + S8x128.size a ≤ S131072x128.size a := fun i v3547 k0_hw232 k0_h2 => k0_hw232.2 k0_h2

def k0_off938 (i : grid0.Coords) : Fin 3 → Nat :=
  let c0_2130 : Index := 0#32
  let c0_2131 : Index := 0#32
  let arg1 : BitVec 32 := BitVec.ofNat 32 (i 1).val
  let c2_i32_2126 : BitVec 32 := 2#32
  let v3556 : BitVec 32 := Scalar.muli arg1 c2_i32_2126
  let c0_i32_2127 : BitVec 32 := 0#32
  let v3557 : BitVec 32 := Scalar.addi v3556 c0_i32_2127
  let c256_i32_2128 : BitVec 32 := 256#32
  let v3558 : BitVec 32 := Scalar.muli v3557 c256_i32_2128
  let c231_i32 : BitVec 32 := 231#32
  let v3559 : BitVec 32 := Scalar.addi v3558 c231_i32
  let v3561 : Index := Scalar.indexCast v3559
  ![0, 0, v3561.toNat]
def k0_mult465 (v3562 : BitVec 32) : BitVec 32 :=
  v3562

def k0_mult466 (i : grid0.Coords) : BitVec 32 :=
  let arg1 : BitVec 32 := BitVec.ofNat 32 (i 1).val
  let c2_i32_2126 : BitVec 32 := 2#32
  let v3556 : BitVec 32 := Scalar.muli arg1 c2_i32_2126
  let c0_i32_2127 : BitVec 32 := 0#32
  let v3557 : BitVec 32 := Scalar.addi v3556 c0_i32_2127
  let c256_i32_2128 : BitVec 32 := 256#32
  let v3558 : BitVec 32 := Scalar.muli v3557 c256_i32_2128
  let c231_i32 : BitVec 32 := 231#32
  let v3559 : BitVec 32 := Scalar.addi v3558 c231_i32
  let c8_i32_2132 : BitVec 32 := 8#32
  let v3564 : BitVec 32 := Scalar.muli v3559 c8_i32_2132
  v3564
def k0_off939 (i : grid0.Coords) : Fin 1 → Nat :=
  let c1_i32_2129 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3560 : BitVec 32 := Scalar.subi c1_i32_2129 v9
  ![v3560.toNat]
def k0_off940 (i : grid0.Coords) : Fin 3 → Nat :=
  let c1_i32_2129 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3560 : BitVec 32 := Scalar.subi c1_i32_2129 v9
  let arg1 : BitVec 32 := BitVec.ofNat 32 (i 1).val
  let c2_i32_2126 : BitVec 32 := 2#32
  let v3556 : BitVec 32 := Scalar.muli arg1 c2_i32_2126
  let c0_i32_2127 : BitVec 32 := 0#32
  let v3557 : BitVec 32 := Scalar.addi v3556 c0_i32_2127
  let c256_i32_2128 : BitVec 32 := 256#32
  let v3558 : BitVec 32 := Scalar.muli v3557 c256_i32_2128
  let c231_i32 : BitVec 32 := 231#32
  let v3559 : BitVec 32 := Scalar.addi v3558 c231_i32
  let c8_i32_2132 : BitVec 32 := 8#32
  let v3564 : BitVec 32 := Scalar.muli v3559 c8_i32_2132
  let v3565 : BitVec 32 := v3564
  let c0_i32_2133 : BitVec 32 := 0#32
  ![v3560.toNat, v3565.toNat, 0]
def k0_off941 (v3562 : BitVec 32) : Fin 2 → Nat :=
  let v3563 : BitVec 32 := v3562
  let c0_i32_2134 : BitVec 32 := 0#32
  ![v3563.toNat, 0]

def k0_chk233 (i : grid0.Coords) (v3562 : BitVec 32) : Prop :=
  (∀ (k0_h2 : k0_cond2 i = 1#1), 8 ∣ (k0_mult465 v3562).toNat) ∧
  (∀ (k0_h2 : k0_cond2 i = 1#1), ∀ a, (k0_off941 v3562) a + S8x128.size a ≤ S131072x128.size a)
theorem k0_mult465_dvd : ∀ (i : grid0.Coords) (v3562 : BitVec 32) (k0_hw233 : k0_chk233 i v3562), ∀ (k0_h2 : k0_cond2 i = 1#1), 8 ∣ (k0_mult465 v3562).toNat := fun i v3562 k0_hw233 k0_h2 => k0_hw233.1 k0_h2
theorem k0_off941_inb : ∀ (i : grid0.Coords) (v3562 : BitVec 32) (k0_hw233 : k0_chk233 i v3562), ∀ (k0_h2 : k0_cond2 i = 1#1), ∀ a, (k0_off941 v3562) a + S8x128.size a ≤ S131072x128.size a := fun i v3562 k0_hw233 k0_h2 => k0_hw233.2 k0_h2

def k0_off942 (i : grid0.Coords) : Fin 3 → Nat :=
  let c0_2139 : Index := 0#32
  let c0_2140 : Index := 0#32
  let arg1 : BitVec 32 := BitVec.ofNat 32 (i 1).val
  let c2_i32_2135 : BitVec 32 := 2#32
  let v3571 : BitVec 32 := Scalar.muli arg1 c2_i32_2135
  let c0_i32_2136 : BitVec 32 := 0#32
  let v3572 : BitVec 32 := Scalar.addi v3571 c0_i32_2136
  let c256_i32_2137 : BitVec 32 := 256#32
  let v3573 : BitVec 32 := Scalar.muli v3572 c256_i32_2137
  let c232_i32 : BitVec 32 := 232#32
  let v3574 : BitVec 32 := Scalar.addi v3573 c232_i32
  let v3576 : Index := Scalar.indexCast v3574
  ![0, 0, v3576.toNat]
def k0_mult467 (v3577 : BitVec 32) : BitVec 32 :=
  v3577

def k0_mult468 (i : grid0.Coords) : BitVec 32 :=
  let arg1 : BitVec 32 := BitVec.ofNat 32 (i 1).val
  let c2_i32_2135 : BitVec 32 := 2#32
  let v3571 : BitVec 32 := Scalar.muli arg1 c2_i32_2135
  let c0_i32_2136 : BitVec 32 := 0#32
  let v3572 : BitVec 32 := Scalar.addi v3571 c0_i32_2136
  let c256_i32_2137 : BitVec 32 := 256#32
  let v3573 : BitVec 32 := Scalar.muli v3572 c256_i32_2137
  let c232_i32 : BitVec 32 := 232#32
  let v3574 : BitVec 32 := Scalar.addi v3573 c232_i32
  let c8_i32_2141 : BitVec 32 := 8#32
  let v3579 : BitVec 32 := Scalar.muli v3574 c8_i32_2141
  v3579
def k0_off943 (i : grid0.Coords) : Fin 1 → Nat :=
  let c1_i32_2138 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3575 : BitVec 32 := Scalar.subi c1_i32_2138 v9
  ![v3575.toNat]
def k0_off944 (i : grid0.Coords) : Fin 3 → Nat :=
  let c1_i32_2138 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3575 : BitVec 32 := Scalar.subi c1_i32_2138 v9
  let arg1 : BitVec 32 := BitVec.ofNat 32 (i 1).val
  let c2_i32_2135 : BitVec 32 := 2#32
  let v3571 : BitVec 32 := Scalar.muli arg1 c2_i32_2135
  let c0_i32_2136 : BitVec 32 := 0#32
  let v3572 : BitVec 32 := Scalar.addi v3571 c0_i32_2136
  let c256_i32_2137 : BitVec 32 := 256#32
  let v3573 : BitVec 32 := Scalar.muli v3572 c256_i32_2137
  let c232_i32 : BitVec 32 := 232#32
  let v3574 : BitVec 32 := Scalar.addi v3573 c232_i32
  let c8_i32_2141 : BitVec 32 := 8#32
  let v3579 : BitVec 32 := Scalar.muli v3574 c8_i32_2141
  let v3580 : BitVec 32 := v3579
  let c0_i32_2142 : BitVec 32 := 0#32
  ![v3575.toNat, v3580.toNat, 0]
def k0_off945 (v3577 : BitVec 32) : Fin 2 → Nat :=
  let v3578 : BitVec 32 := v3577
  let c0_i32_2143 : BitVec 32 := 0#32
  ![v3578.toNat, 0]

def k0_chk234 (i : grid0.Coords) (v3577 : BitVec 32) : Prop :=
  (∀ (k0_h2 : k0_cond2 i = 1#1), 8 ∣ (k0_mult467 v3577).toNat) ∧
  (∀ (k0_h2 : k0_cond2 i = 1#1), ∀ a, (k0_off945 v3577) a + S8x128.size a ≤ S131072x128.size a)
theorem k0_mult467_dvd : ∀ (i : grid0.Coords) (v3577 : BitVec 32) (k0_hw234 : k0_chk234 i v3577), ∀ (k0_h2 : k0_cond2 i = 1#1), 8 ∣ (k0_mult467 v3577).toNat := fun i v3577 k0_hw234 k0_h2 => k0_hw234.1 k0_h2
theorem k0_off945_inb : ∀ (i : grid0.Coords) (v3577 : BitVec 32) (k0_hw234 : k0_chk234 i v3577), ∀ (k0_h2 : k0_cond2 i = 1#1), ∀ a, (k0_off945 v3577) a + S8x128.size a ≤ S131072x128.size a := fun i v3577 k0_hw234 k0_h2 => k0_hw234.2 k0_h2

def k0_off946 (i : grid0.Coords) : Fin 3 → Nat :=
  let c0_2148 : Index := 0#32
  let c0_2149 : Index := 0#32
  let arg1 : BitVec 32 := BitVec.ofNat 32 (i 1).val
  let c2_i32_2144 : BitVec 32 := 2#32
  let v3586 : BitVec 32 := Scalar.muli arg1 c2_i32_2144
  let c0_i32_2145 : BitVec 32 := 0#32
  let v3587 : BitVec 32 := Scalar.addi v3586 c0_i32_2145
  let c256_i32_2146 : BitVec 32 := 256#32
  let v3588 : BitVec 32 := Scalar.muli v3587 c256_i32_2146
  let c233_i32 : BitVec 32 := 233#32
  let v3589 : BitVec 32 := Scalar.addi v3588 c233_i32
  let v3591 : Index := Scalar.indexCast v3589
  ![0, 0, v3591.toNat]
def k0_mult469 (v3592 : BitVec 32) : BitVec 32 :=
  v3592

def k0_mult470 (i : grid0.Coords) : BitVec 32 :=
  let arg1 : BitVec 32 := BitVec.ofNat 32 (i 1).val
  let c2_i32_2144 : BitVec 32 := 2#32
  let v3586 : BitVec 32 := Scalar.muli arg1 c2_i32_2144
  let c0_i32_2145 : BitVec 32 := 0#32
  let v3587 : BitVec 32 := Scalar.addi v3586 c0_i32_2145
  let c256_i32_2146 : BitVec 32 := 256#32
  let v3588 : BitVec 32 := Scalar.muli v3587 c256_i32_2146
  let c233_i32 : BitVec 32 := 233#32
  let v3589 : BitVec 32 := Scalar.addi v3588 c233_i32
  let c8_i32_2150 : BitVec 32 := 8#32
  let v3594 : BitVec 32 := Scalar.muli v3589 c8_i32_2150
  v3594
def k0_off947 (i : grid0.Coords) : Fin 1 → Nat :=
  let c1_i32_2147 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3590 : BitVec 32 := Scalar.subi c1_i32_2147 v9
  ![v3590.toNat]
def k0_off948 (i : grid0.Coords) : Fin 3 → Nat :=
  let c1_i32_2147 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3590 : BitVec 32 := Scalar.subi c1_i32_2147 v9
  let arg1 : BitVec 32 := BitVec.ofNat 32 (i 1).val
  let c2_i32_2144 : BitVec 32 := 2#32
  let v3586 : BitVec 32 := Scalar.muli arg1 c2_i32_2144
  let c0_i32_2145 : BitVec 32 := 0#32
  let v3587 : BitVec 32 := Scalar.addi v3586 c0_i32_2145
  let c256_i32_2146 : BitVec 32 := 256#32
  let v3588 : BitVec 32 := Scalar.muli v3587 c256_i32_2146
  let c233_i32 : BitVec 32 := 233#32
  let v3589 : BitVec 32 := Scalar.addi v3588 c233_i32
  let c8_i32_2150 : BitVec 32 := 8#32
  let v3594 : BitVec 32 := Scalar.muli v3589 c8_i32_2150
  let v3595 : BitVec 32 := v3594
  let c0_i32_2151 : BitVec 32 := 0#32
  ![v3590.toNat, v3595.toNat, 0]
def k0_off949 (v3592 : BitVec 32) : Fin 2 → Nat :=
  let v3593 : BitVec 32 := v3592
  let c0_i32_2152 : BitVec 32 := 0#32
  ![v3593.toNat, 0]

def k0_chk235 (i : grid0.Coords) (v3592 : BitVec 32) : Prop :=
  (∀ (k0_h2 : k0_cond2 i = 1#1), 8 ∣ (k0_mult469 v3592).toNat) ∧
  (∀ (k0_h2 : k0_cond2 i = 1#1), ∀ a, (k0_off949 v3592) a + S8x128.size a ≤ S131072x128.size a)
theorem k0_mult469_dvd : ∀ (i : grid0.Coords) (v3592 : BitVec 32) (k0_hw235 : k0_chk235 i v3592), ∀ (k0_h2 : k0_cond2 i = 1#1), 8 ∣ (k0_mult469 v3592).toNat := fun i v3592 k0_hw235 k0_h2 => k0_hw235.1 k0_h2
theorem k0_off949_inb : ∀ (i : grid0.Coords) (v3592 : BitVec 32) (k0_hw235 : k0_chk235 i v3592), ∀ (k0_h2 : k0_cond2 i = 1#1), ∀ a, (k0_off949 v3592) a + S8x128.size a ≤ S131072x128.size a := fun i v3592 k0_hw235 k0_h2 => k0_hw235.2 k0_h2

def k0_off950 (i : grid0.Coords) : Fin 3 → Nat :=
  let c0_2157 : Index := 0#32
  let c0_2158 : Index := 0#32
  let arg1 : BitVec 32 := BitVec.ofNat 32 (i 1).val
  let c2_i32_2153 : BitVec 32 := 2#32
  let v3601 : BitVec 32 := Scalar.muli arg1 c2_i32_2153
  let c0_i32_2154 : BitVec 32 := 0#32
  let v3602 : BitVec 32 := Scalar.addi v3601 c0_i32_2154
  let c256_i32_2155 : BitVec 32 := 256#32
  let v3603 : BitVec 32 := Scalar.muli v3602 c256_i32_2155
  let c234_i32 : BitVec 32 := 234#32
  let v3604 : BitVec 32 := Scalar.addi v3603 c234_i32
  let v3606 : Index := Scalar.indexCast v3604
  ![0, 0, v3606.toNat]
def k0_mult471 (v3607 : BitVec 32) : BitVec 32 :=
  v3607

def k0_mult472 (i : grid0.Coords) : BitVec 32 :=
  let arg1 : BitVec 32 := BitVec.ofNat 32 (i 1).val
  let c2_i32_2153 : BitVec 32 := 2#32
  let v3601 : BitVec 32 := Scalar.muli arg1 c2_i32_2153
  let c0_i32_2154 : BitVec 32 := 0#32
  let v3602 : BitVec 32 := Scalar.addi v3601 c0_i32_2154
  let c256_i32_2155 : BitVec 32 := 256#32
  let v3603 : BitVec 32 := Scalar.muli v3602 c256_i32_2155
  let c234_i32 : BitVec 32 := 234#32
  let v3604 : BitVec 32 := Scalar.addi v3603 c234_i32
  let c8_i32_2159 : BitVec 32 := 8#32
  let v3609 : BitVec 32 := Scalar.muli v3604 c8_i32_2159
  v3609
def k0_off951 (i : grid0.Coords) : Fin 1 → Nat :=
  let c1_i32_2156 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3605 : BitVec 32 := Scalar.subi c1_i32_2156 v9
  ![v3605.toNat]
def k0_off952 (i : grid0.Coords) : Fin 3 → Nat :=
  let c1_i32_2156 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3605 : BitVec 32 := Scalar.subi c1_i32_2156 v9
  let arg1 : BitVec 32 := BitVec.ofNat 32 (i 1).val
  let c2_i32_2153 : BitVec 32 := 2#32
  let v3601 : BitVec 32 := Scalar.muli arg1 c2_i32_2153
  let c0_i32_2154 : BitVec 32 := 0#32
  let v3602 : BitVec 32 := Scalar.addi v3601 c0_i32_2154
  let c256_i32_2155 : BitVec 32 := 256#32
  let v3603 : BitVec 32 := Scalar.muli v3602 c256_i32_2155
  let c234_i32 : BitVec 32 := 234#32
  let v3604 : BitVec 32 := Scalar.addi v3603 c234_i32
  let c8_i32_2159 : BitVec 32 := 8#32
  let v3609 : BitVec 32 := Scalar.muli v3604 c8_i32_2159
  let v3610 : BitVec 32 := v3609
  let c0_i32_2160 : BitVec 32 := 0#32
  ![v3605.toNat, v3610.toNat, 0]
def k0_off953 (v3607 : BitVec 32) : Fin 2 → Nat :=
  let v3608 : BitVec 32 := v3607
  let c0_i32_2161 : BitVec 32 := 0#32
  ![v3608.toNat, 0]

def k0_chk236 (i : grid0.Coords) (v3607 : BitVec 32) : Prop :=
  (∀ (k0_h2 : k0_cond2 i = 1#1), 8 ∣ (k0_mult471 v3607).toNat) ∧
  (∀ (k0_h2 : k0_cond2 i = 1#1), ∀ a, (k0_off953 v3607) a + S8x128.size a ≤ S131072x128.size a)
theorem k0_mult471_dvd : ∀ (i : grid0.Coords) (v3607 : BitVec 32) (k0_hw236 : k0_chk236 i v3607), ∀ (k0_h2 : k0_cond2 i = 1#1), 8 ∣ (k0_mult471 v3607).toNat := fun i v3607 k0_hw236 k0_h2 => k0_hw236.1 k0_h2
theorem k0_off953_inb : ∀ (i : grid0.Coords) (v3607 : BitVec 32) (k0_hw236 : k0_chk236 i v3607), ∀ (k0_h2 : k0_cond2 i = 1#1), ∀ a, (k0_off953 v3607) a + S8x128.size a ≤ S131072x128.size a := fun i v3607 k0_hw236 k0_h2 => k0_hw236.2 k0_h2

def k0_off954 (i : grid0.Coords) : Fin 3 → Nat :=
  let c0_2166 : Index := 0#32
  let c0_2167 : Index := 0#32
  let arg1 : BitVec 32 := BitVec.ofNat 32 (i 1).val
  let c2_i32_2162 : BitVec 32 := 2#32
  let v3616 : BitVec 32 := Scalar.muli arg1 c2_i32_2162
  let c0_i32_2163 : BitVec 32 := 0#32
  let v3617 : BitVec 32 := Scalar.addi v3616 c0_i32_2163
  let c256_i32_2164 : BitVec 32 := 256#32
  let v3618 : BitVec 32 := Scalar.muli v3617 c256_i32_2164
  let c235_i32 : BitVec 32 := 235#32
  let v3619 : BitVec 32 := Scalar.addi v3618 c235_i32
  let v3621 : Index := Scalar.indexCast v3619
  ![0, 0, v3621.toNat]
def k0_mult473 (v3622 : BitVec 32) : BitVec 32 :=
  v3622

def k0_mult474 (i : grid0.Coords) : BitVec 32 :=
  let arg1 : BitVec 32 := BitVec.ofNat 32 (i 1).val
  let c2_i32_2162 : BitVec 32 := 2#32
  let v3616 : BitVec 32 := Scalar.muli arg1 c2_i32_2162
  let c0_i32_2163 : BitVec 32 := 0#32
  let v3617 : BitVec 32 := Scalar.addi v3616 c0_i32_2163
  let c256_i32_2164 : BitVec 32 := 256#32
  let v3618 : BitVec 32 := Scalar.muli v3617 c256_i32_2164
  let c235_i32 : BitVec 32 := 235#32
  let v3619 : BitVec 32 := Scalar.addi v3618 c235_i32
  let c8_i32_2168 : BitVec 32 := 8#32
  let v3624 : BitVec 32 := Scalar.muli v3619 c8_i32_2168
  v3624
def k0_off955 (i : grid0.Coords) : Fin 1 → Nat :=
  let c1_i32_2165 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3620 : BitVec 32 := Scalar.subi c1_i32_2165 v9
  ![v3620.toNat]
def k0_off956 (i : grid0.Coords) : Fin 3 → Nat :=
  let c1_i32_2165 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3620 : BitVec 32 := Scalar.subi c1_i32_2165 v9
  let arg1 : BitVec 32 := BitVec.ofNat 32 (i 1).val
  let c2_i32_2162 : BitVec 32 := 2#32
  let v3616 : BitVec 32 := Scalar.muli arg1 c2_i32_2162
  let c0_i32_2163 : BitVec 32 := 0#32
  let v3617 : BitVec 32 := Scalar.addi v3616 c0_i32_2163
  let c256_i32_2164 : BitVec 32 := 256#32
  let v3618 : BitVec 32 := Scalar.muli v3617 c256_i32_2164
  let c235_i32 : BitVec 32 := 235#32
  let v3619 : BitVec 32 := Scalar.addi v3618 c235_i32
  let c8_i32_2168 : BitVec 32 := 8#32
  let v3624 : BitVec 32 := Scalar.muli v3619 c8_i32_2168
  let v3625 : BitVec 32 := v3624
  let c0_i32_2169 : BitVec 32 := 0#32
  ![v3620.toNat, v3625.toNat, 0]
def k0_off957 (v3622 : BitVec 32) : Fin 2 → Nat :=
  let v3623 : BitVec 32 := v3622
  let c0_i32_2170 : BitVec 32 := 0#32
  ![v3623.toNat, 0]

def k0_chk237 (i : grid0.Coords) (v3622 : BitVec 32) : Prop :=
  (∀ (k0_h2 : k0_cond2 i = 1#1), 8 ∣ (k0_mult473 v3622).toNat) ∧
  (∀ (k0_h2 : k0_cond2 i = 1#1), ∀ a, (k0_off957 v3622) a + S8x128.size a ≤ S131072x128.size a)
theorem k0_mult473_dvd : ∀ (i : grid0.Coords) (v3622 : BitVec 32) (k0_hw237 : k0_chk237 i v3622), ∀ (k0_h2 : k0_cond2 i = 1#1), 8 ∣ (k0_mult473 v3622).toNat := fun i v3622 k0_hw237 k0_h2 => k0_hw237.1 k0_h2
theorem k0_off957_inb : ∀ (i : grid0.Coords) (v3622 : BitVec 32) (k0_hw237 : k0_chk237 i v3622), ∀ (k0_h2 : k0_cond2 i = 1#1), ∀ a, (k0_off957 v3622) a + S8x128.size a ≤ S131072x128.size a := fun i v3622 k0_hw237 k0_h2 => k0_hw237.2 k0_h2

def k0_off958 (i : grid0.Coords) : Fin 3 → Nat :=
  let c0_2175 : Index := 0#32
  let c0_2176 : Index := 0#32
  let arg1 : BitVec 32 := BitVec.ofNat 32 (i 1).val
  let c2_i32_2171 : BitVec 32 := 2#32
  let v3631 : BitVec 32 := Scalar.muli arg1 c2_i32_2171
  let c0_i32_2172 : BitVec 32 := 0#32
  let v3632 : BitVec 32 := Scalar.addi v3631 c0_i32_2172
  let c256_i32_2173 : BitVec 32 := 256#32
  let v3633 : BitVec 32 := Scalar.muli v3632 c256_i32_2173
  let c236_i32 : BitVec 32 := 236#32
  let v3634 : BitVec 32 := Scalar.addi v3633 c236_i32
  let v3636 : Index := Scalar.indexCast v3634
  ![0, 0, v3636.toNat]
def k0_mult475 (v3637 : BitVec 32) : BitVec 32 :=
  v3637

def k0_mult476 (i : grid0.Coords) : BitVec 32 :=
  let arg1 : BitVec 32 := BitVec.ofNat 32 (i 1).val
  let c2_i32_2171 : BitVec 32 := 2#32
  let v3631 : BitVec 32 := Scalar.muli arg1 c2_i32_2171
  let c0_i32_2172 : BitVec 32 := 0#32
  let v3632 : BitVec 32 := Scalar.addi v3631 c0_i32_2172
  let c256_i32_2173 : BitVec 32 := 256#32
  let v3633 : BitVec 32 := Scalar.muli v3632 c256_i32_2173
  let c236_i32 : BitVec 32 := 236#32
  let v3634 : BitVec 32 := Scalar.addi v3633 c236_i32
  let c8_i32_2177 : BitVec 32 := 8#32
  let v3639 : BitVec 32 := Scalar.muli v3634 c8_i32_2177
  v3639
def k0_off959 (i : grid0.Coords) : Fin 1 → Nat :=
  let c1_i32_2174 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3635 : BitVec 32 := Scalar.subi c1_i32_2174 v9
  ![v3635.toNat]
def k0_off960 (i : grid0.Coords) : Fin 3 → Nat :=
  let c1_i32_2174 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3635 : BitVec 32 := Scalar.subi c1_i32_2174 v9
  let arg1 : BitVec 32 := BitVec.ofNat 32 (i 1).val
  let c2_i32_2171 : BitVec 32 := 2#32
  let v3631 : BitVec 32 := Scalar.muli arg1 c2_i32_2171
  let c0_i32_2172 : BitVec 32 := 0#32
  let v3632 : BitVec 32 := Scalar.addi v3631 c0_i32_2172
  let c256_i32_2173 : BitVec 32 := 256#32
  let v3633 : BitVec 32 := Scalar.muli v3632 c256_i32_2173
  let c236_i32 : BitVec 32 := 236#32
  let v3634 : BitVec 32 := Scalar.addi v3633 c236_i32
  let c8_i32_2177 : BitVec 32 := 8#32
  let v3639 : BitVec 32 := Scalar.muli v3634 c8_i32_2177
  let v3640 : BitVec 32 := v3639
  let c0_i32_2178 : BitVec 32 := 0#32
  ![v3635.toNat, v3640.toNat, 0]
def k0_off961 (v3637 : BitVec 32) : Fin 2 → Nat :=
  let v3638 : BitVec 32 := v3637
  let c0_i32_2179 : BitVec 32 := 0#32
  ![v3638.toNat, 0]

def k0_chk238 (i : grid0.Coords) (v3637 : BitVec 32) : Prop :=
  (∀ (k0_h2 : k0_cond2 i = 1#1), 8 ∣ (k0_mult475 v3637).toNat) ∧
  (∀ (k0_h2 : k0_cond2 i = 1#1), ∀ a, (k0_off961 v3637) a + S8x128.size a ≤ S131072x128.size a)
theorem k0_mult475_dvd : ∀ (i : grid0.Coords) (v3637 : BitVec 32) (k0_hw238 : k0_chk238 i v3637), ∀ (k0_h2 : k0_cond2 i = 1#1), 8 ∣ (k0_mult475 v3637).toNat := fun i v3637 k0_hw238 k0_h2 => k0_hw238.1 k0_h2
theorem k0_off961_inb : ∀ (i : grid0.Coords) (v3637 : BitVec 32) (k0_hw238 : k0_chk238 i v3637), ∀ (k0_h2 : k0_cond2 i = 1#1), ∀ a, (k0_off961 v3637) a + S8x128.size a ≤ S131072x128.size a := fun i v3637 k0_hw238 k0_h2 => k0_hw238.2 k0_h2

def k0_off962 (i : grid0.Coords) : Fin 3 → Nat :=
  let c0_2184 : Index := 0#32
  let c0_2185 : Index := 0#32
  let arg1 : BitVec 32 := BitVec.ofNat 32 (i 1).val
  let c2_i32_2180 : BitVec 32 := 2#32
  let v3646 : BitVec 32 := Scalar.muli arg1 c2_i32_2180
  let c0_i32_2181 : BitVec 32 := 0#32
  let v3647 : BitVec 32 := Scalar.addi v3646 c0_i32_2181
  let c256_i32_2182 : BitVec 32 := 256#32
  let v3648 : BitVec 32 := Scalar.muli v3647 c256_i32_2182
  let c237_i32 : BitVec 32 := 237#32
  let v3649 : BitVec 32 := Scalar.addi v3648 c237_i32
  let v3651 : Index := Scalar.indexCast v3649
  ![0, 0, v3651.toNat]
def k0_mult477 (v3652 : BitVec 32) : BitVec 32 :=
  v3652

def k0_mult478 (i : grid0.Coords) : BitVec 32 :=
  let arg1 : BitVec 32 := BitVec.ofNat 32 (i 1).val
  let c2_i32_2180 : BitVec 32 := 2#32
  let v3646 : BitVec 32 := Scalar.muli arg1 c2_i32_2180
  let c0_i32_2181 : BitVec 32 := 0#32
  let v3647 : BitVec 32 := Scalar.addi v3646 c0_i32_2181
  let c256_i32_2182 : BitVec 32 := 256#32
  let v3648 : BitVec 32 := Scalar.muli v3647 c256_i32_2182
  let c237_i32 : BitVec 32 := 237#32
  let v3649 : BitVec 32 := Scalar.addi v3648 c237_i32
  let c8_i32_2186 : BitVec 32 := 8#32
  let v3654 : BitVec 32 := Scalar.muli v3649 c8_i32_2186
  v3654
def k0_off963 (i : grid0.Coords) : Fin 1 → Nat :=
  let c1_i32_2183 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3650 : BitVec 32 := Scalar.subi c1_i32_2183 v9
  ![v3650.toNat]
def k0_off964 (i : grid0.Coords) : Fin 3 → Nat :=
  let c1_i32_2183 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3650 : BitVec 32 := Scalar.subi c1_i32_2183 v9
  let arg1 : BitVec 32 := BitVec.ofNat 32 (i 1).val
  let c2_i32_2180 : BitVec 32 := 2#32
  let v3646 : BitVec 32 := Scalar.muli arg1 c2_i32_2180
  let c0_i32_2181 : BitVec 32 := 0#32
  let v3647 : BitVec 32 := Scalar.addi v3646 c0_i32_2181
  let c256_i32_2182 : BitVec 32 := 256#32
  let v3648 : BitVec 32 := Scalar.muli v3647 c256_i32_2182
  let c237_i32 : BitVec 32 := 237#32
  let v3649 : BitVec 32 := Scalar.addi v3648 c237_i32
  let c8_i32_2186 : BitVec 32 := 8#32
  let v3654 : BitVec 32 := Scalar.muli v3649 c8_i32_2186
  let v3655 : BitVec 32 := v3654
  let c0_i32_2187 : BitVec 32 := 0#32
  ![v3650.toNat, v3655.toNat, 0]
def k0_off965 (v3652 : BitVec 32) : Fin 2 → Nat :=
  let v3653 : BitVec 32 := v3652
  let c0_i32_2188 : BitVec 32 := 0#32
  ![v3653.toNat, 0]

def k0_chk239 (i : grid0.Coords) (v3652 : BitVec 32) : Prop :=
  (∀ (k0_h2 : k0_cond2 i = 1#1), 8 ∣ (k0_mult477 v3652).toNat) ∧
  (∀ (k0_h2 : k0_cond2 i = 1#1), ∀ a, (k0_off965 v3652) a + S8x128.size a ≤ S131072x128.size a)
theorem k0_mult477_dvd : ∀ (i : grid0.Coords) (v3652 : BitVec 32) (k0_hw239 : k0_chk239 i v3652), ∀ (k0_h2 : k0_cond2 i = 1#1), 8 ∣ (k0_mult477 v3652).toNat := fun i v3652 k0_hw239 k0_h2 => k0_hw239.1 k0_h2
theorem k0_off965_inb : ∀ (i : grid0.Coords) (v3652 : BitVec 32) (k0_hw239 : k0_chk239 i v3652), ∀ (k0_h2 : k0_cond2 i = 1#1), ∀ a, (k0_off965 v3652) a + S8x128.size a ≤ S131072x128.size a := fun i v3652 k0_hw239 k0_h2 => k0_hw239.2 k0_h2

def k0_off966 (i : grid0.Coords) : Fin 3 → Nat :=
  let c0_2193 : Index := 0#32
  let c0_2194 : Index := 0#32
  let arg1 : BitVec 32 := BitVec.ofNat 32 (i 1).val
  let c2_i32_2189 : BitVec 32 := 2#32
  let v3661 : BitVec 32 := Scalar.muli arg1 c2_i32_2189
  let c0_i32_2190 : BitVec 32 := 0#32
  let v3662 : BitVec 32 := Scalar.addi v3661 c0_i32_2190
  let c256_i32_2191 : BitVec 32 := 256#32
  let v3663 : BitVec 32 := Scalar.muli v3662 c256_i32_2191
  let c238_i32 : BitVec 32 := 238#32
  let v3664 : BitVec 32 := Scalar.addi v3663 c238_i32
  let v3666 : Index := Scalar.indexCast v3664
  ![0, 0, v3666.toNat]
def k0_mult479 (v3667 : BitVec 32) : BitVec 32 :=
  v3667

def k0_mult480 (i : grid0.Coords) : BitVec 32 :=
  let arg1 : BitVec 32 := BitVec.ofNat 32 (i 1).val
  let c2_i32_2189 : BitVec 32 := 2#32
  let v3661 : BitVec 32 := Scalar.muli arg1 c2_i32_2189
  let c0_i32_2190 : BitVec 32 := 0#32
  let v3662 : BitVec 32 := Scalar.addi v3661 c0_i32_2190
  let c256_i32_2191 : BitVec 32 := 256#32
  let v3663 : BitVec 32 := Scalar.muli v3662 c256_i32_2191
  let c238_i32 : BitVec 32 := 238#32
  let v3664 : BitVec 32 := Scalar.addi v3663 c238_i32
  let c8_i32_2195 : BitVec 32 := 8#32
  let v3669 : BitVec 32 := Scalar.muli v3664 c8_i32_2195
  v3669
def k0_off967 (i : grid0.Coords) : Fin 1 → Nat :=
  let c1_i32_2192 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3665 : BitVec 32 := Scalar.subi c1_i32_2192 v9
  ![v3665.toNat]
def k0_off968 (i : grid0.Coords) : Fin 3 → Nat :=
  let c1_i32_2192 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3665 : BitVec 32 := Scalar.subi c1_i32_2192 v9
  let arg1 : BitVec 32 := BitVec.ofNat 32 (i 1).val
  let c2_i32_2189 : BitVec 32 := 2#32
  let v3661 : BitVec 32 := Scalar.muli arg1 c2_i32_2189
  let c0_i32_2190 : BitVec 32 := 0#32
  let v3662 : BitVec 32 := Scalar.addi v3661 c0_i32_2190
  let c256_i32_2191 : BitVec 32 := 256#32
  let v3663 : BitVec 32 := Scalar.muli v3662 c256_i32_2191
  let c238_i32 : BitVec 32 := 238#32
  let v3664 : BitVec 32 := Scalar.addi v3663 c238_i32
  let c8_i32_2195 : BitVec 32 := 8#32
  let v3669 : BitVec 32 := Scalar.muli v3664 c8_i32_2195
  let v3670 : BitVec 32 := v3669
  let c0_i32_2196 : BitVec 32 := 0#32
  ![v3665.toNat, v3670.toNat, 0]
def k0_off969 (v3667 : BitVec 32) : Fin 2 → Nat :=
  let v3668 : BitVec 32 := v3667
  let c0_i32_2197 : BitVec 32 := 0#32
  ![v3668.toNat, 0]

def k0_chk240 (i : grid0.Coords) (v3667 : BitVec 32) : Prop :=
  (∀ (k0_h2 : k0_cond2 i = 1#1), 8 ∣ (k0_mult479 v3667).toNat) ∧
  (∀ (k0_h2 : k0_cond2 i = 1#1), ∀ a, (k0_off969 v3667) a + S8x128.size a ≤ S131072x128.size a)
theorem k0_mult479_dvd : ∀ (i : grid0.Coords) (v3667 : BitVec 32) (k0_hw240 : k0_chk240 i v3667), ∀ (k0_h2 : k0_cond2 i = 1#1), 8 ∣ (k0_mult479 v3667).toNat := fun i v3667 k0_hw240 k0_h2 => k0_hw240.1 k0_h2
theorem k0_off969_inb : ∀ (i : grid0.Coords) (v3667 : BitVec 32) (k0_hw240 : k0_chk240 i v3667), ∀ (k0_h2 : k0_cond2 i = 1#1), ∀ a, (k0_off969 v3667) a + S8x128.size a ≤ S131072x128.size a := fun i v3667 k0_hw240 k0_h2 => k0_hw240.2 k0_h2

def k0_off970 (i : grid0.Coords) : Fin 3 → Nat :=
  let c0_2202 : Index := 0#32
  let c0_2203 : Index := 0#32
  let arg1 : BitVec 32 := BitVec.ofNat 32 (i 1).val
  let c2_i32_2198 : BitVec 32 := 2#32
  let v3676 : BitVec 32 := Scalar.muli arg1 c2_i32_2198
  let c0_i32_2199 : BitVec 32 := 0#32
  let v3677 : BitVec 32 := Scalar.addi v3676 c0_i32_2199
  let c256_i32_2200 : BitVec 32 := 256#32
  let v3678 : BitVec 32 := Scalar.muli v3677 c256_i32_2200
  let c239_i32 : BitVec 32 := 239#32
  let v3679 : BitVec 32 := Scalar.addi v3678 c239_i32
  let v3681 : Index := Scalar.indexCast v3679
  ![0, 0, v3681.toNat]
def k0_mult481 (v3682 : BitVec 32) : BitVec 32 :=
  v3682

def k0_mult482 (i : grid0.Coords) : BitVec 32 :=
  let arg1 : BitVec 32 := BitVec.ofNat 32 (i 1).val
  let c2_i32_2198 : BitVec 32 := 2#32
  let v3676 : BitVec 32 := Scalar.muli arg1 c2_i32_2198
  let c0_i32_2199 : BitVec 32 := 0#32
  let v3677 : BitVec 32 := Scalar.addi v3676 c0_i32_2199
  let c256_i32_2200 : BitVec 32 := 256#32
  let v3678 : BitVec 32 := Scalar.muli v3677 c256_i32_2200
  let c239_i32 : BitVec 32 := 239#32
  let v3679 : BitVec 32 := Scalar.addi v3678 c239_i32
  let c8_i32_2204 : BitVec 32 := 8#32
  let v3684 : BitVec 32 := Scalar.muli v3679 c8_i32_2204
  v3684
def k0_off971 (i : grid0.Coords) : Fin 1 → Nat :=
  let c1_i32_2201 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3680 : BitVec 32 := Scalar.subi c1_i32_2201 v9
  ![v3680.toNat]
def k0_off972 (i : grid0.Coords) : Fin 3 → Nat :=
  let c1_i32_2201 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3680 : BitVec 32 := Scalar.subi c1_i32_2201 v9
  let arg1 : BitVec 32 := BitVec.ofNat 32 (i 1).val
  let c2_i32_2198 : BitVec 32 := 2#32
  let v3676 : BitVec 32 := Scalar.muli arg1 c2_i32_2198
  let c0_i32_2199 : BitVec 32 := 0#32
  let v3677 : BitVec 32 := Scalar.addi v3676 c0_i32_2199
  let c256_i32_2200 : BitVec 32 := 256#32
  let v3678 : BitVec 32 := Scalar.muli v3677 c256_i32_2200
  let c239_i32 : BitVec 32 := 239#32
  let v3679 : BitVec 32 := Scalar.addi v3678 c239_i32
  let c8_i32_2204 : BitVec 32 := 8#32
  let v3684 : BitVec 32 := Scalar.muli v3679 c8_i32_2204
  let v3685 : BitVec 32 := v3684
  let c0_i32_2205 : BitVec 32 := 0#32
  ![v3680.toNat, v3685.toNat, 0]
def k0_off973 (v3682 : BitVec 32) : Fin 2 → Nat :=
  let v3683 : BitVec 32 := v3682
  let c0_i32_2206 : BitVec 32 := 0#32
  ![v3683.toNat, 0]

def k0_chk241 (i : grid0.Coords) (v3682 : BitVec 32) : Prop :=
  (∀ (k0_h2 : k0_cond2 i = 1#1), 8 ∣ (k0_mult481 v3682).toNat) ∧
  (∀ (k0_h2 : k0_cond2 i = 1#1), ∀ a, (k0_off973 v3682) a + S8x128.size a ≤ S131072x128.size a)
theorem k0_mult481_dvd : ∀ (i : grid0.Coords) (v3682 : BitVec 32) (k0_hw241 : k0_chk241 i v3682), ∀ (k0_h2 : k0_cond2 i = 1#1), 8 ∣ (k0_mult481 v3682).toNat := fun i v3682 k0_hw241 k0_h2 => k0_hw241.1 k0_h2
theorem k0_off973_inb : ∀ (i : grid0.Coords) (v3682 : BitVec 32) (k0_hw241 : k0_chk241 i v3682), ∀ (k0_h2 : k0_cond2 i = 1#1), ∀ a, (k0_off973 v3682) a + S8x128.size a ≤ S131072x128.size a := fun i v3682 k0_hw241 k0_h2 => k0_hw241.2 k0_h2

def k0_off974 (i : grid0.Coords) : Fin 3 → Nat :=
  let c0_2211 : Index := 0#32
  let c0_2212 : Index := 0#32
  let arg1 : BitVec 32 := BitVec.ofNat 32 (i 1).val
  let c2_i32_2207 : BitVec 32 := 2#32
  let v3691 : BitVec 32 := Scalar.muli arg1 c2_i32_2207
  let c0_i32_2208 : BitVec 32 := 0#32
  let v3692 : BitVec 32 := Scalar.addi v3691 c0_i32_2208
  let c256_i32_2209 : BitVec 32 := 256#32
  let v3693 : BitVec 32 := Scalar.muli v3692 c256_i32_2209
  let c240_i32 : BitVec 32 := 240#32
  let v3694 : BitVec 32 := Scalar.addi v3693 c240_i32
  let v3696 : Index := Scalar.indexCast v3694
  ![0, 0, v3696.toNat]
def k0_mult483 (v3697 : BitVec 32) : BitVec 32 :=
  v3697

def k0_mult484 (i : grid0.Coords) : BitVec 32 :=
  let arg1 : BitVec 32 := BitVec.ofNat 32 (i 1).val
  let c2_i32_2207 : BitVec 32 := 2#32
  let v3691 : BitVec 32 := Scalar.muli arg1 c2_i32_2207
  let c0_i32_2208 : BitVec 32 := 0#32
  let v3692 : BitVec 32 := Scalar.addi v3691 c0_i32_2208
  let c256_i32_2209 : BitVec 32 := 256#32
  let v3693 : BitVec 32 := Scalar.muli v3692 c256_i32_2209
  let c240_i32 : BitVec 32 := 240#32
  let v3694 : BitVec 32 := Scalar.addi v3693 c240_i32
  let c8_i32_2213 : BitVec 32 := 8#32
  let v3699 : BitVec 32 := Scalar.muli v3694 c8_i32_2213
  v3699
def k0_off975 (i : grid0.Coords) : Fin 1 → Nat :=
  let c1_i32_2210 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3695 : BitVec 32 := Scalar.subi c1_i32_2210 v9
  ![v3695.toNat]
def k0_off976 (i : grid0.Coords) : Fin 3 → Nat :=
  let c1_i32_2210 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3695 : BitVec 32 := Scalar.subi c1_i32_2210 v9
  let arg1 : BitVec 32 := BitVec.ofNat 32 (i 1).val
  let c2_i32_2207 : BitVec 32 := 2#32
  let v3691 : BitVec 32 := Scalar.muli arg1 c2_i32_2207
  let c0_i32_2208 : BitVec 32 := 0#32
  let v3692 : BitVec 32 := Scalar.addi v3691 c0_i32_2208
  let c256_i32_2209 : BitVec 32 := 256#32
  let v3693 : BitVec 32 := Scalar.muli v3692 c256_i32_2209
  let c240_i32 : BitVec 32 := 240#32
  let v3694 : BitVec 32 := Scalar.addi v3693 c240_i32
  let c8_i32_2213 : BitVec 32 := 8#32
  let v3699 : BitVec 32 := Scalar.muli v3694 c8_i32_2213
  let v3700 : BitVec 32 := v3699
  let c0_i32_2214 : BitVec 32 := 0#32
  ![v3695.toNat, v3700.toNat, 0]
def k0_off977 (v3697 : BitVec 32) : Fin 2 → Nat :=
  let v3698 : BitVec 32 := v3697
  let c0_i32_2215 : BitVec 32 := 0#32
  ![v3698.toNat, 0]

def k0_chk242 (i : grid0.Coords) (v3697 : BitVec 32) : Prop :=
  (∀ (k0_h2 : k0_cond2 i = 1#1), 8 ∣ (k0_mult483 v3697).toNat) ∧
  (∀ (k0_h2 : k0_cond2 i = 1#1), ∀ a, (k0_off977 v3697) a + S8x128.size a ≤ S131072x128.size a)
theorem k0_mult483_dvd : ∀ (i : grid0.Coords) (v3697 : BitVec 32) (k0_hw242 : k0_chk242 i v3697), ∀ (k0_h2 : k0_cond2 i = 1#1), 8 ∣ (k0_mult483 v3697).toNat := fun i v3697 k0_hw242 k0_h2 => k0_hw242.1 k0_h2
theorem k0_off977_inb : ∀ (i : grid0.Coords) (v3697 : BitVec 32) (k0_hw242 : k0_chk242 i v3697), ∀ (k0_h2 : k0_cond2 i = 1#1), ∀ a, (k0_off977 v3697) a + S8x128.size a ≤ S131072x128.size a := fun i v3697 k0_hw242 k0_h2 => k0_hw242.2 k0_h2

def k0_off978 (i : grid0.Coords) : Fin 3 → Nat :=
  let c0_2220 : Index := 0#32
  let c0_2221 : Index := 0#32
  let arg1 : BitVec 32 := BitVec.ofNat 32 (i 1).val
  let c2_i32_2216 : BitVec 32 := 2#32
  let v3706 : BitVec 32 := Scalar.muli arg1 c2_i32_2216
  let c0_i32_2217 : BitVec 32 := 0#32
  let v3707 : BitVec 32 := Scalar.addi v3706 c0_i32_2217
  let c256_i32_2218 : BitVec 32 := 256#32
  let v3708 : BitVec 32 := Scalar.muli v3707 c256_i32_2218
  let c241_i32 : BitVec 32 := 241#32
  let v3709 : BitVec 32 := Scalar.addi v3708 c241_i32
  let v3711 : Index := Scalar.indexCast v3709
  ![0, 0, v3711.toNat]
def k0_mult485 (v3712 : BitVec 32) : BitVec 32 :=
  v3712

def k0_mult486 (i : grid0.Coords) : BitVec 32 :=
  let arg1 : BitVec 32 := BitVec.ofNat 32 (i 1).val
  let c2_i32_2216 : BitVec 32 := 2#32
  let v3706 : BitVec 32 := Scalar.muli arg1 c2_i32_2216
  let c0_i32_2217 : BitVec 32 := 0#32
  let v3707 : BitVec 32 := Scalar.addi v3706 c0_i32_2217
  let c256_i32_2218 : BitVec 32 := 256#32
  let v3708 : BitVec 32 := Scalar.muli v3707 c256_i32_2218
  let c241_i32 : BitVec 32 := 241#32
  let v3709 : BitVec 32 := Scalar.addi v3708 c241_i32
  let c8_i32_2222 : BitVec 32 := 8#32
  let v3714 : BitVec 32 := Scalar.muli v3709 c8_i32_2222
  v3714
def k0_off979 (i : grid0.Coords) : Fin 1 → Nat :=
  let c1_i32_2219 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3710 : BitVec 32 := Scalar.subi c1_i32_2219 v9
  ![v3710.toNat]
def k0_off980 (i : grid0.Coords) : Fin 3 → Nat :=
  let c1_i32_2219 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3710 : BitVec 32 := Scalar.subi c1_i32_2219 v9
  let arg1 : BitVec 32 := BitVec.ofNat 32 (i 1).val
  let c2_i32_2216 : BitVec 32 := 2#32
  let v3706 : BitVec 32 := Scalar.muli arg1 c2_i32_2216
  let c0_i32_2217 : BitVec 32 := 0#32
  let v3707 : BitVec 32 := Scalar.addi v3706 c0_i32_2217
  let c256_i32_2218 : BitVec 32 := 256#32
  let v3708 : BitVec 32 := Scalar.muli v3707 c256_i32_2218
  let c241_i32 : BitVec 32 := 241#32
  let v3709 : BitVec 32 := Scalar.addi v3708 c241_i32
  let c8_i32_2222 : BitVec 32 := 8#32
  let v3714 : BitVec 32 := Scalar.muli v3709 c8_i32_2222
  let v3715 : BitVec 32 := v3714
  let c0_i32_2223 : BitVec 32 := 0#32
  ![v3710.toNat, v3715.toNat, 0]
def k0_off981 (v3712 : BitVec 32) : Fin 2 → Nat :=
  let v3713 : BitVec 32 := v3712
  let c0_i32_2224 : BitVec 32 := 0#32
  ![v3713.toNat, 0]

def k0_chk243 (i : grid0.Coords) (v3712 : BitVec 32) : Prop :=
  (∀ (k0_h2 : k0_cond2 i = 1#1), 8 ∣ (k0_mult485 v3712).toNat) ∧
  (∀ (k0_h2 : k0_cond2 i = 1#1), ∀ a, (k0_off981 v3712) a + S8x128.size a ≤ S131072x128.size a)
theorem k0_mult485_dvd : ∀ (i : grid0.Coords) (v3712 : BitVec 32) (k0_hw243 : k0_chk243 i v3712), ∀ (k0_h2 : k0_cond2 i = 1#1), 8 ∣ (k0_mult485 v3712).toNat := fun i v3712 k0_hw243 k0_h2 => k0_hw243.1 k0_h2
theorem k0_off981_inb : ∀ (i : grid0.Coords) (v3712 : BitVec 32) (k0_hw243 : k0_chk243 i v3712), ∀ (k0_h2 : k0_cond2 i = 1#1), ∀ a, (k0_off981 v3712) a + S8x128.size a ≤ S131072x128.size a := fun i v3712 k0_hw243 k0_h2 => k0_hw243.2 k0_h2

def k0_off982 (i : grid0.Coords) : Fin 3 → Nat :=
  let c0_2229 : Index := 0#32
  let c0_2230 : Index := 0#32
  let arg1 : BitVec 32 := BitVec.ofNat 32 (i 1).val
  let c2_i32_2225 : BitVec 32 := 2#32
  let v3721 : BitVec 32 := Scalar.muli arg1 c2_i32_2225
  let c0_i32_2226 : BitVec 32 := 0#32
  let v3722 : BitVec 32 := Scalar.addi v3721 c0_i32_2226
  let c256_i32_2227 : BitVec 32 := 256#32
  let v3723 : BitVec 32 := Scalar.muli v3722 c256_i32_2227
  let c242_i32 : BitVec 32 := 242#32
  let v3724 : BitVec 32 := Scalar.addi v3723 c242_i32
  let v3726 : Index := Scalar.indexCast v3724
  ![0, 0, v3726.toNat]
def k0_mult487 (v3727 : BitVec 32) : BitVec 32 :=
  v3727

def k0_mult488 (i : grid0.Coords) : BitVec 32 :=
  let arg1 : BitVec 32 := BitVec.ofNat 32 (i 1).val
  let c2_i32_2225 : BitVec 32 := 2#32
  let v3721 : BitVec 32 := Scalar.muli arg1 c2_i32_2225
  let c0_i32_2226 : BitVec 32 := 0#32
  let v3722 : BitVec 32 := Scalar.addi v3721 c0_i32_2226
  let c256_i32_2227 : BitVec 32 := 256#32
  let v3723 : BitVec 32 := Scalar.muli v3722 c256_i32_2227
  let c242_i32 : BitVec 32 := 242#32
  let v3724 : BitVec 32 := Scalar.addi v3723 c242_i32
  let c8_i32_2231 : BitVec 32 := 8#32
  let v3729 : BitVec 32 := Scalar.muli v3724 c8_i32_2231
  v3729
def k0_off983 (i : grid0.Coords) : Fin 1 → Nat :=
  let c1_i32_2228 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3725 : BitVec 32 := Scalar.subi c1_i32_2228 v9
  ![v3725.toNat]
def k0_off984 (i : grid0.Coords) : Fin 3 → Nat :=
  let c1_i32_2228 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3725 : BitVec 32 := Scalar.subi c1_i32_2228 v9
  let arg1 : BitVec 32 := BitVec.ofNat 32 (i 1).val
  let c2_i32_2225 : BitVec 32 := 2#32
  let v3721 : BitVec 32 := Scalar.muli arg1 c2_i32_2225
  let c0_i32_2226 : BitVec 32 := 0#32
  let v3722 : BitVec 32 := Scalar.addi v3721 c0_i32_2226
  let c256_i32_2227 : BitVec 32 := 256#32
  let v3723 : BitVec 32 := Scalar.muli v3722 c256_i32_2227
  let c242_i32 : BitVec 32 := 242#32
  let v3724 : BitVec 32 := Scalar.addi v3723 c242_i32
  let c8_i32_2231 : BitVec 32 := 8#32
  let v3729 : BitVec 32 := Scalar.muli v3724 c8_i32_2231
  let v3730 : BitVec 32 := v3729
  let c0_i32_2232 : BitVec 32 := 0#32
  ![v3725.toNat, v3730.toNat, 0]
def k0_off985 (v3727 : BitVec 32) : Fin 2 → Nat :=
  let v3728 : BitVec 32 := v3727
  let c0_i32_2233 : BitVec 32 := 0#32
  ![v3728.toNat, 0]

def k0_chk244 (i : grid0.Coords) (v3727 : BitVec 32) : Prop :=
  (∀ (k0_h2 : k0_cond2 i = 1#1), 8 ∣ (k0_mult487 v3727).toNat) ∧
  (∀ (k0_h2 : k0_cond2 i = 1#1), ∀ a, (k0_off985 v3727) a + S8x128.size a ≤ S131072x128.size a)
theorem k0_mult487_dvd : ∀ (i : grid0.Coords) (v3727 : BitVec 32) (k0_hw244 : k0_chk244 i v3727), ∀ (k0_h2 : k0_cond2 i = 1#1), 8 ∣ (k0_mult487 v3727).toNat := fun i v3727 k0_hw244 k0_h2 => k0_hw244.1 k0_h2
theorem k0_off985_inb : ∀ (i : grid0.Coords) (v3727 : BitVec 32) (k0_hw244 : k0_chk244 i v3727), ∀ (k0_h2 : k0_cond2 i = 1#1), ∀ a, (k0_off985 v3727) a + S8x128.size a ≤ S131072x128.size a := fun i v3727 k0_hw244 k0_h2 => k0_hw244.2 k0_h2

def k0_off986 (i : grid0.Coords) : Fin 3 → Nat :=
  let c0_2238 : Index := 0#32
  let c0_2239 : Index := 0#32
  let arg1 : BitVec 32 := BitVec.ofNat 32 (i 1).val
  let c2_i32_2234 : BitVec 32 := 2#32
  let v3736 : BitVec 32 := Scalar.muli arg1 c2_i32_2234
  let c0_i32_2235 : BitVec 32 := 0#32
  let v3737 : BitVec 32 := Scalar.addi v3736 c0_i32_2235
  let c256_i32_2236 : BitVec 32 := 256#32
  let v3738 : BitVec 32 := Scalar.muli v3737 c256_i32_2236
  let c243_i32 : BitVec 32 := 243#32
  let v3739 : BitVec 32 := Scalar.addi v3738 c243_i32
  let v3741 : Index := Scalar.indexCast v3739
  ![0, 0, v3741.toNat]
def k0_mult489 (v3742 : BitVec 32) : BitVec 32 :=
  v3742

def k0_mult490 (i : grid0.Coords) : BitVec 32 :=
  let arg1 : BitVec 32 := BitVec.ofNat 32 (i 1).val
  let c2_i32_2234 : BitVec 32 := 2#32
  let v3736 : BitVec 32 := Scalar.muli arg1 c2_i32_2234
  let c0_i32_2235 : BitVec 32 := 0#32
  let v3737 : BitVec 32 := Scalar.addi v3736 c0_i32_2235
  let c256_i32_2236 : BitVec 32 := 256#32
  let v3738 : BitVec 32 := Scalar.muli v3737 c256_i32_2236
  let c243_i32 : BitVec 32 := 243#32
  let v3739 : BitVec 32 := Scalar.addi v3738 c243_i32
  let c8_i32_2240 : BitVec 32 := 8#32
  let v3744 : BitVec 32 := Scalar.muli v3739 c8_i32_2240
  v3744
def k0_off987 (i : grid0.Coords) : Fin 1 → Nat :=
  let c1_i32_2237 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3740 : BitVec 32 := Scalar.subi c1_i32_2237 v9
  ![v3740.toNat]
def k0_off988 (i : grid0.Coords) : Fin 3 → Nat :=
  let c1_i32_2237 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3740 : BitVec 32 := Scalar.subi c1_i32_2237 v9
  let arg1 : BitVec 32 := BitVec.ofNat 32 (i 1).val
  let c2_i32_2234 : BitVec 32 := 2#32
  let v3736 : BitVec 32 := Scalar.muli arg1 c2_i32_2234
  let c0_i32_2235 : BitVec 32 := 0#32
  let v3737 : BitVec 32 := Scalar.addi v3736 c0_i32_2235
  let c256_i32_2236 : BitVec 32 := 256#32
  let v3738 : BitVec 32 := Scalar.muli v3737 c256_i32_2236
  let c243_i32 : BitVec 32 := 243#32
  let v3739 : BitVec 32 := Scalar.addi v3738 c243_i32
  let c8_i32_2240 : BitVec 32 := 8#32
  let v3744 : BitVec 32 := Scalar.muli v3739 c8_i32_2240
  let v3745 : BitVec 32 := v3744
  let c0_i32_2241 : BitVec 32 := 0#32
  ![v3740.toNat, v3745.toNat, 0]
def k0_off989 (v3742 : BitVec 32) : Fin 2 → Nat :=
  let v3743 : BitVec 32 := v3742
  let c0_i32_2242 : BitVec 32 := 0#32
  ![v3743.toNat, 0]

def k0_chk245 (i : grid0.Coords) (v3742 : BitVec 32) : Prop :=
  (∀ (k0_h2 : k0_cond2 i = 1#1), 8 ∣ (k0_mult489 v3742).toNat) ∧
  (∀ (k0_h2 : k0_cond2 i = 1#1), ∀ a, (k0_off989 v3742) a + S8x128.size a ≤ S131072x128.size a)
theorem k0_mult489_dvd : ∀ (i : grid0.Coords) (v3742 : BitVec 32) (k0_hw245 : k0_chk245 i v3742), ∀ (k0_h2 : k0_cond2 i = 1#1), 8 ∣ (k0_mult489 v3742).toNat := fun i v3742 k0_hw245 k0_h2 => k0_hw245.1 k0_h2
theorem k0_off989_inb : ∀ (i : grid0.Coords) (v3742 : BitVec 32) (k0_hw245 : k0_chk245 i v3742), ∀ (k0_h2 : k0_cond2 i = 1#1), ∀ a, (k0_off989 v3742) a + S8x128.size a ≤ S131072x128.size a := fun i v3742 k0_hw245 k0_h2 => k0_hw245.2 k0_h2

def k0_off990 (i : grid0.Coords) : Fin 3 → Nat :=
  let c0_2247 : Index := 0#32
  let c0_2248 : Index := 0#32
  let arg1 : BitVec 32 := BitVec.ofNat 32 (i 1).val
  let c2_i32_2243 : BitVec 32 := 2#32
  let v3751 : BitVec 32 := Scalar.muli arg1 c2_i32_2243
  let c0_i32_2244 : BitVec 32 := 0#32
  let v3752 : BitVec 32 := Scalar.addi v3751 c0_i32_2244
  let c256_i32_2245 : BitVec 32 := 256#32
  let v3753 : BitVec 32 := Scalar.muli v3752 c256_i32_2245
  let c244_i32 : BitVec 32 := 244#32
  let v3754 : BitVec 32 := Scalar.addi v3753 c244_i32
  let v3756 : Index := Scalar.indexCast v3754
  ![0, 0, v3756.toNat]
def k0_mult491 (v3757 : BitVec 32) : BitVec 32 :=
  v3757

def k0_mult492 (i : grid0.Coords) : BitVec 32 :=
  let arg1 : BitVec 32 := BitVec.ofNat 32 (i 1).val
  let c2_i32_2243 : BitVec 32 := 2#32
  let v3751 : BitVec 32 := Scalar.muli arg1 c2_i32_2243
  let c0_i32_2244 : BitVec 32 := 0#32
  let v3752 : BitVec 32 := Scalar.addi v3751 c0_i32_2244
  let c256_i32_2245 : BitVec 32 := 256#32
  let v3753 : BitVec 32 := Scalar.muli v3752 c256_i32_2245
  let c244_i32 : BitVec 32 := 244#32
  let v3754 : BitVec 32 := Scalar.addi v3753 c244_i32
  let c8_i32_2249 : BitVec 32 := 8#32
  let v3759 : BitVec 32 := Scalar.muli v3754 c8_i32_2249
  v3759
def k0_off991 (i : grid0.Coords) : Fin 1 → Nat :=
  let c1_i32_2246 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3755 : BitVec 32 := Scalar.subi c1_i32_2246 v9
  ![v3755.toNat]
def k0_off992 (i : grid0.Coords) : Fin 3 → Nat :=
  let c1_i32_2246 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3755 : BitVec 32 := Scalar.subi c1_i32_2246 v9
  let arg1 : BitVec 32 := BitVec.ofNat 32 (i 1).val
  let c2_i32_2243 : BitVec 32 := 2#32
  let v3751 : BitVec 32 := Scalar.muli arg1 c2_i32_2243
  let c0_i32_2244 : BitVec 32 := 0#32
  let v3752 : BitVec 32 := Scalar.addi v3751 c0_i32_2244
  let c256_i32_2245 : BitVec 32 := 256#32
  let v3753 : BitVec 32 := Scalar.muli v3752 c256_i32_2245
  let c244_i32 : BitVec 32 := 244#32
  let v3754 : BitVec 32 := Scalar.addi v3753 c244_i32
  let c8_i32_2249 : BitVec 32 := 8#32
  let v3759 : BitVec 32 := Scalar.muli v3754 c8_i32_2249
  let v3760 : BitVec 32 := v3759
  let c0_i32_2250 : BitVec 32 := 0#32
  ![v3755.toNat, v3760.toNat, 0]
def k0_off993 (v3757 : BitVec 32) : Fin 2 → Nat :=
  let v3758 : BitVec 32 := v3757
  let c0_i32_2251 : BitVec 32 := 0#32
  ![v3758.toNat, 0]

def k0_chk246 (i : grid0.Coords) (v3757 : BitVec 32) : Prop :=
  (∀ (k0_h2 : k0_cond2 i = 1#1), 8 ∣ (k0_mult491 v3757).toNat) ∧
  (∀ (k0_h2 : k0_cond2 i = 1#1), ∀ a, (k0_off993 v3757) a + S8x128.size a ≤ S131072x128.size a)
theorem k0_mult491_dvd : ∀ (i : grid0.Coords) (v3757 : BitVec 32) (k0_hw246 : k0_chk246 i v3757), ∀ (k0_h2 : k0_cond2 i = 1#1), 8 ∣ (k0_mult491 v3757).toNat := fun i v3757 k0_hw246 k0_h2 => k0_hw246.1 k0_h2
theorem k0_off993_inb : ∀ (i : grid0.Coords) (v3757 : BitVec 32) (k0_hw246 : k0_chk246 i v3757), ∀ (k0_h2 : k0_cond2 i = 1#1), ∀ a, (k0_off993 v3757) a + S8x128.size a ≤ S131072x128.size a := fun i v3757 k0_hw246 k0_h2 => k0_hw246.2 k0_h2

def k0_off994 (i : grid0.Coords) : Fin 3 → Nat :=
  let c0_2256 : Index := 0#32
  let c0_2257 : Index := 0#32
  let arg1 : BitVec 32 := BitVec.ofNat 32 (i 1).val
  let c2_i32_2252 : BitVec 32 := 2#32
  let v3766 : BitVec 32 := Scalar.muli arg1 c2_i32_2252
  let c0_i32_2253 : BitVec 32 := 0#32
  let v3767 : BitVec 32 := Scalar.addi v3766 c0_i32_2253
  let c256_i32_2254 : BitVec 32 := 256#32
  let v3768 : BitVec 32 := Scalar.muli v3767 c256_i32_2254
  let c245_i32 : BitVec 32 := 245#32
  let v3769 : BitVec 32 := Scalar.addi v3768 c245_i32
  let v3771 : Index := Scalar.indexCast v3769
  ![0, 0, v3771.toNat]
def k0_mult493 (v3772 : BitVec 32) : BitVec 32 :=
  v3772

def k0_mult494 (i : grid0.Coords) : BitVec 32 :=
  let arg1 : BitVec 32 := BitVec.ofNat 32 (i 1).val
  let c2_i32_2252 : BitVec 32 := 2#32
  let v3766 : BitVec 32 := Scalar.muli arg1 c2_i32_2252
  let c0_i32_2253 : BitVec 32 := 0#32
  let v3767 : BitVec 32 := Scalar.addi v3766 c0_i32_2253
  let c256_i32_2254 : BitVec 32 := 256#32
  let v3768 : BitVec 32 := Scalar.muli v3767 c256_i32_2254
  let c245_i32 : BitVec 32 := 245#32
  let v3769 : BitVec 32 := Scalar.addi v3768 c245_i32
  let c8_i32_2258 : BitVec 32 := 8#32
  let v3774 : BitVec 32 := Scalar.muli v3769 c8_i32_2258
  v3774
def k0_off995 (i : grid0.Coords) : Fin 1 → Nat :=
  let c1_i32_2255 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3770 : BitVec 32 := Scalar.subi c1_i32_2255 v9
  ![v3770.toNat]
def k0_off996 (i : grid0.Coords) : Fin 3 → Nat :=
  let c1_i32_2255 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3770 : BitVec 32 := Scalar.subi c1_i32_2255 v9
  let arg1 : BitVec 32 := BitVec.ofNat 32 (i 1).val
  let c2_i32_2252 : BitVec 32 := 2#32
  let v3766 : BitVec 32 := Scalar.muli arg1 c2_i32_2252
  let c0_i32_2253 : BitVec 32 := 0#32
  let v3767 : BitVec 32 := Scalar.addi v3766 c0_i32_2253
  let c256_i32_2254 : BitVec 32 := 256#32
  let v3768 : BitVec 32 := Scalar.muli v3767 c256_i32_2254
  let c245_i32 : BitVec 32 := 245#32
  let v3769 : BitVec 32 := Scalar.addi v3768 c245_i32
  let c8_i32_2258 : BitVec 32 := 8#32
  let v3774 : BitVec 32 := Scalar.muli v3769 c8_i32_2258
  let v3775 : BitVec 32 := v3774
  let c0_i32_2259 : BitVec 32 := 0#32
  ![v3770.toNat, v3775.toNat, 0]
def k0_off997 (v3772 : BitVec 32) : Fin 2 → Nat :=
  let v3773 : BitVec 32 := v3772
  let c0_i32_2260 : BitVec 32 := 0#32
  ![v3773.toNat, 0]

def k0_chk247 (i : grid0.Coords) (v3772 : BitVec 32) : Prop :=
  (∀ (k0_h2 : k0_cond2 i = 1#1), 8 ∣ (k0_mult493 v3772).toNat) ∧
  (∀ (k0_h2 : k0_cond2 i = 1#1), ∀ a, (k0_off997 v3772) a + S8x128.size a ≤ S131072x128.size a)
theorem k0_mult493_dvd : ∀ (i : grid0.Coords) (v3772 : BitVec 32) (k0_hw247 : k0_chk247 i v3772), ∀ (k0_h2 : k0_cond2 i = 1#1), 8 ∣ (k0_mult493 v3772).toNat := fun i v3772 k0_hw247 k0_h2 => k0_hw247.1 k0_h2
theorem k0_off997_inb : ∀ (i : grid0.Coords) (v3772 : BitVec 32) (k0_hw247 : k0_chk247 i v3772), ∀ (k0_h2 : k0_cond2 i = 1#1), ∀ a, (k0_off997 v3772) a + S8x128.size a ≤ S131072x128.size a := fun i v3772 k0_hw247 k0_h2 => k0_hw247.2 k0_h2

def k0_off998 (i : grid0.Coords) : Fin 3 → Nat :=
  let c0_2265 : Index := 0#32
  let c0_2266 : Index := 0#32
  let arg1 : BitVec 32 := BitVec.ofNat 32 (i 1).val
  let c2_i32_2261 : BitVec 32 := 2#32
  let v3781 : BitVec 32 := Scalar.muli arg1 c2_i32_2261
  let c0_i32_2262 : BitVec 32 := 0#32
  let v3782 : BitVec 32 := Scalar.addi v3781 c0_i32_2262
  let c256_i32_2263 : BitVec 32 := 256#32
  let v3783 : BitVec 32 := Scalar.muli v3782 c256_i32_2263
  let c246_i32 : BitVec 32 := 246#32
  let v3784 : BitVec 32 := Scalar.addi v3783 c246_i32
  let v3786 : Index := Scalar.indexCast v3784
  ![0, 0, v3786.toNat]
def k0_mult495 (v3787 : BitVec 32) : BitVec 32 :=
  v3787

def k0_mult496 (i : grid0.Coords) : BitVec 32 :=
  let arg1 : BitVec 32 := BitVec.ofNat 32 (i 1).val
  let c2_i32_2261 : BitVec 32 := 2#32
  let v3781 : BitVec 32 := Scalar.muli arg1 c2_i32_2261
  let c0_i32_2262 : BitVec 32 := 0#32
  let v3782 : BitVec 32 := Scalar.addi v3781 c0_i32_2262
  let c256_i32_2263 : BitVec 32 := 256#32
  let v3783 : BitVec 32 := Scalar.muli v3782 c256_i32_2263
  let c246_i32 : BitVec 32 := 246#32
  let v3784 : BitVec 32 := Scalar.addi v3783 c246_i32
  let c8_i32_2267 : BitVec 32 := 8#32
  let v3789 : BitVec 32 := Scalar.muli v3784 c8_i32_2267
  v3789
def k0_off999 (i : grid0.Coords) : Fin 1 → Nat :=
  let c1_i32_2264 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3785 : BitVec 32 := Scalar.subi c1_i32_2264 v9
  ![v3785.toNat]
def k0_off1000 (i : grid0.Coords) : Fin 3 → Nat :=
  let c1_i32_2264 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3785 : BitVec 32 := Scalar.subi c1_i32_2264 v9
  let arg1 : BitVec 32 := BitVec.ofNat 32 (i 1).val
  let c2_i32_2261 : BitVec 32 := 2#32
  let v3781 : BitVec 32 := Scalar.muli arg1 c2_i32_2261
  let c0_i32_2262 : BitVec 32 := 0#32
  let v3782 : BitVec 32 := Scalar.addi v3781 c0_i32_2262
  let c256_i32_2263 : BitVec 32 := 256#32
  let v3783 : BitVec 32 := Scalar.muli v3782 c256_i32_2263
  let c246_i32 : BitVec 32 := 246#32
  let v3784 : BitVec 32 := Scalar.addi v3783 c246_i32
  let c8_i32_2267 : BitVec 32 := 8#32
  let v3789 : BitVec 32 := Scalar.muli v3784 c8_i32_2267
  let v3790 : BitVec 32 := v3789
  let c0_i32_2268 : BitVec 32 := 0#32
  ![v3785.toNat, v3790.toNat, 0]
def k0_off1001 (v3787 : BitVec 32) : Fin 2 → Nat :=
  let v3788 : BitVec 32 := v3787
  let c0_i32_2269 : BitVec 32 := 0#32
  ![v3788.toNat, 0]

def k0_chk248 (i : grid0.Coords) (v3787 : BitVec 32) : Prop :=
  (∀ (k0_h2 : k0_cond2 i = 1#1), 8 ∣ (k0_mult495 v3787).toNat) ∧
  (∀ (k0_h2 : k0_cond2 i = 1#1), ∀ a, (k0_off1001 v3787) a + S8x128.size a ≤ S131072x128.size a)
theorem k0_mult495_dvd : ∀ (i : grid0.Coords) (v3787 : BitVec 32) (k0_hw248 : k0_chk248 i v3787), ∀ (k0_h2 : k0_cond2 i = 1#1), 8 ∣ (k0_mult495 v3787).toNat := fun i v3787 k0_hw248 k0_h2 => k0_hw248.1 k0_h2
theorem k0_off1001_inb : ∀ (i : grid0.Coords) (v3787 : BitVec 32) (k0_hw248 : k0_chk248 i v3787), ∀ (k0_h2 : k0_cond2 i = 1#1), ∀ a, (k0_off1001 v3787) a + S8x128.size a ≤ S131072x128.size a := fun i v3787 k0_hw248 k0_h2 => k0_hw248.2 k0_h2

def k0_off1002 (i : grid0.Coords) : Fin 3 → Nat :=
  let c0_2274 : Index := 0#32
  let c0_2275 : Index := 0#32
  let arg1 : BitVec 32 := BitVec.ofNat 32 (i 1).val
  let c2_i32_2270 : BitVec 32 := 2#32
  let v3796 : BitVec 32 := Scalar.muli arg1 c2_i32_2270
  let c0_i32_2271 : BitVec 32 := 0#32
  let v3797 : BitVec 32 := Scalar.addi v3796 c0_i32_2271
  let c256_i32_2272 : BitVec 32 := 256#32
  let v3798 : BitVec 32 := Scalar.muli v3797 c256_i32_2272
  let c247_i32 : BitVec 32 := 247#32
  let v3799 : BitVec 32 := Scalar.addi v3798 c247_i32
  let v3801 : Index := Scalar.indexCast v3799
  ![0, 0, v3801.toNat]
def k0_mult497 (v3802 : BitVec 32) : BitVec 32 :=
  v3802

def k0_mult498 (i : grid0.Coords) : BitVec 32 :=
  let arg1 : BitVec 32 := BitVec.ofNat 32 (i 1).val
  let c2_i32_2270 : BitVec 32 := 2#32
  let v3796 : BitVec 32 := Scalar.muli arg1 c2_i32_2270
  let c0_i32_2271 : BitVec 32 := 0#32
  let v3797 : BitVec 32 := Scalar.addi v3796 c0_i32_2271
  let c256_i32_2272 : BitVec 32 := 256#32
  let v3798 : BitVec 32 := Scalar.muli v3797 c256_i32_2272
  let c247_i32 : BitVec 32 := 247#32
  let v3799 : BitVec 32 := Scalar.addi v3798 c247_i32
  let c8_i32_2276 : BitVec 32 := 8#32
  let v3804 : BitVec 32 := Scalar.muli v3799 c8_i32_2276
  v3804
def k0_off1003 (i : grid0.Coords) : Fin 1 → Nat :=
  let c1_i32_2273 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3800 : BitVec 32 := Scalar.subi c1_i32_2273 v9
  ![v3800.toNat]
def k0_off1004 (i : grid0.Coords) : Fin 3 → Nat :=
  let c1_i32_2273 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3800 : BitVec 32 := Scalar.subi c1_i32_2273 v9
  let arg1 : BitVec 32 := BitVec.ofNat 32 (i 1).val
  let c2_i32_2270 : BitVec 32 := 2#32
  let v3796 : BitVec 32 := Scalar.muli arg1 c2_i32_2270
  let c0_i32_2271 : BitVec 32 := 0#32
  let v3797 : BitVec 32 := Scalar.addi v3796 c0_i32_2271
  let c256_i32_2272 : BitVec 32 := 256#32
  let v3798 : BitVec 32 := Scalar.muli v3797 c256_i32_2272
  let c247_i32 : BitVec 32 := 247#32
  let v3799 : BitVec 32 := Scalar.addi v3798 c247_i32
  let c8_i32_2276 : BitVec 32 := 8#32
  let v3804 : BitVec 32 := Scalar.muli v3799 c8_i32_2276
  let v3805 : BitVec 32 := v3804
  let c0_i32_2277 : BitVec 32 := 0#32
  ![v3800.toNat, v3805.toNat, 0]
def k0_off1005 (v3802 : BitVec 32) : Fin 2 → Nat :=
  let v3803 : BitVec 32 := v3802
  let c0_i32_2278 : BitVec 32 := 0#32
  ![v3803.toNat, 0]

def k0_chk249 (i : grid0.Coords) (v3802 : BitVec 32) : Prop :=
  (∀ (k0_h2 : k0_cond2 i = 1#1), 8 ∣ (k0_mult497 v3802).toNat) ∧
  (∀ (k0_h2 : k0_cond2 i = 1#1), ∀ a, (k0_off1005 v3802) a + S8x128.size a ≤ S131072x128.size a)
theorem k0_mult497_dvd : ∀ (i : grid0.Coords) (v3802 : BitVec 32) (k0_hw249 : k0_chk249 i v3802), ∀ (k0_h2 : k0_cond2 i = 1#1), 8 ∣ (k0_mult497 v3802).toNat := fun i v3802 k0_hw249 k0_h2 => k0_hw249.1 k0_h2
theorem k0_off1005_inb : ∀ (i : grid0.Coords) (v3802 : BitVec 32) (k0_hw249 : k0_chk249 i v3802), ∀ (k0_h2 : k0_cond2 i = 1#1), ∀ a, (k0_off1005 v3802) a + S8x128.size a ≤ S131072x128.size a := fun i v3802 k0_hw249 k0_h2 => k0_hw249.2 k0_h2

def k0_off1006 (i : grid0.Coords) : Fin 3 → Nat :=
  let c0_2283 : Index := 0#32
  let c0_2284 : Index := 0#32
  let arg1 : BitVec 32 := BitVec.ofNat 32 (i 1).val
  let c2_i32_2279 : BitVec 32 := 2#32
  let v3811 : BitVec 32 := Scalar.muli arg1 c2_i32_2279
  let c0_i32_2280 : BitVec 32 := 0#32
  let v3812 : BitVec 32 := Scalar.addi v3811 c0_i32_2280
  let c256_i32_2281 : BitVec 32 := 256#32
  let v3813 : BitVec 32 := Scalar.muli v3812 c256_i32_2281
  let c248_i32 : BitVec 32 := 248#32
  let v3814 : BitVec 32 := Scalar.addi v3813 c248_i32
  let v3816 : Index := Scalar.indexCast v3814
  ![0, 0, v3816.toNat]
def k0_mult499 (v3817 : BitVec 32) : BitVec 32 :=
  v3817

def k0_mult500 (i : grid0.Coords) : BitVec 32 :=
  let arg1 : BitVec 32 := BitVec.ofNat 32 (i 1).val
  let c2_i32_2279 : BitVec 32 := 2#32
  let v3811 : BitVec 32 := Scalar.muli arg1 c2_i32_2279
  let c0_i32_2280 : BitVec 32 := 0#32
  let v3812 : BitVec 32 := Scalar.addi v3811 c0_i32_2280
  let c256_i32_2281 : BitVec 32 := 256#32
  let v3813 : BitVec 32 := Scalar.muli v3812 c256_i32_2281
  let c248_i32 : BitVec 32 := 248#32
  let v3814 : BitVec 32 := Scalar.addi v3813 c248_i32
  let c8_i32_2285 : BitVec 32 := 8#32
  let v3819 : BitVec 32 := Scalar.muli v3814 c8_i32_2285
  v3819
def k0_off1007 (i : grid0.Coords) : Fin 1 → Nat :=
  let c1_i32_2282 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3815 : BitVec 32 := Scalar.subi c1_i32_2282 v9
  ![v3815.toNat]
def k0_off1008 (i : grid0.Coords) : Fin 3 → Nat :=
  let c1_i32_2282 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3815 : BitVec 32 := Scalar.subi c1_i32_2282 v9
  let arg1 : BitVec 32 := BitVec.ofNat 32 (i 1).val
  let c2_i32_2279 : BitVec 32 := 2#32
  let v3811 : BitVec 32 := Scalar.muli arg1 c2_i32_2279
  let c0_i32_2280 : BitVec 32 := 0#32
  let v3812 : BitVec 32 := Scalar.addi v3811 c0_i32_2280
  let c256_i32_2281 : BitVec 32 := 256#32
  let v3813 : BitVec 32 := Scalar.muli v3812 c256_i32_2281
  let c248_i32 : BitVec 32 := 248#32
  let v3814 : BitVec 32 := Scalar.addi v3813 c248_i32
  let c8_i32_2285 : BitVec 32 := 8#32
  let v3819 : BitVec 32 := Scalar.muli v3814 c8_i32_2285
  let v3820 : BitVec 32 := v3819
  let c0_i32_2286 : BitVec 32 := 0#32
  ![v3815.toNat, v3820.toNat, 0]
def k0_off1009 (v3817 : BitVec 32) : Fin 2 → Nat :=
  let v3818 : BitVec 32 := v3817
  let c0_i32_2287 : BitVec 32 := 0#32
  ![v3818.toNat, 0]

def k0_chk250 (i : grid0.Coords) (v3817 : BitVec 32) : Prop :=
  (∀ (k0_h2 : k0_cond2 i = 1#1), 8 ∣ (k0_mult499 v3817).toNat) ∧
  (∀ (k0_h2 : k0_cond2 i = 1#1), ∀ a, (k0_off1009 v3817) a + S8x128.size a ≤ S131072x128.size a)
theorem k0_mult499_dvd : ∀ (i : grid0.Coords) (v3817 : BitVec 32) (k0_hw250 : k0_chk250 i v3817), ∀ (k0_h2 : k0_cond2 i = 1#1), 8 ∣ (k0_mult499 v3817).toNat := fun i v3817 k0_hw250 k0_h2 => k0_hw250.1 k0_h2
theorem k0_off1009_inb : ∀ (i : grid0.Coords) (v3817 : BitVec 32) (k0_hw250 : k0_chk250 i v3817), ∀ (k0_h2 : k0_cond2 i = 1#1), ∀ a, (k0_off1009 v3817) a + S8x128.size a ≤ S131072x128.size a := fun i v3817 k0_hw250 k0_h2 => k0_hw250.2 k0_h2

def k0_off1010 (i : grid0.Coords) : Fin 3 → Nat :=
  let c0_2292 : Index := 0#32
  let c0_2293 : Index := 0#32
  let arg1 : BitVec 32 := BitVec.ofNat 32 (i 1).val
  let c2_i32_2288 : BitVec 32 := 2#32
  let v3826 : BitVec 32 := Scalar.muli arg1 c2_i32_2288
  let c0_i32_2289 : BitVec 32 := 0#32
  let v3827 : BitVec 32 := Scalar.addi v3826 c0_i32_2289
  let c256_i32_2290 : BitVec 32 := 256#32
  let v3828 : BitVec 32 := Scalar.muli v3827 c256_i32_2290
  let c249_i32 : BitVec 32 := 249#32
  let v3829 : BitVec 32 := Scalar.addi v3828 c249_i32
  let v3831 : Index := Scalar.indexCast v3829
  ![0, 0, v3831.toNat]
def k0_mult501 (v3832 : BitVec 32) : BitVec 32 :=
  v3832

def k0_mult502 (i : grid0.Coords) : BitVec 32 :=
  let arg1 : BitVec 32 := BitVec.ofNat 32 (i 1).val
  let c2_i32_2288 : BitVec 32 := 2#32
  let v3826 : BitVec 32 := Scalar.muli arg1 c2_i32_2288
  let c0_i32_2289 : BitVec 32 := 0#32
  let v3827 : BitVec 32 := Scalar.addi v3826 c0_i32_2289
  let c256_i32_2290 : BitVec 32 := 256#32
  let v3828 : BitVec 32 := Scalar.muli v3827 c256_i32_2290
  let c249_i32 : BitVec 32 := 249#32
  let v3829 : BitVec 32 := Scalar.addi v3828 c249_i32
  let c8_i32_2294 : BitVec 32 := 8#32
  let v3834 : BitVec 32 := Scalar.muli v3829 c8_i32_2294
  v3834
def k0_off1011 (i : grid0.Coords) : Fin 1 → Nat :=
  let c1_i32_2291 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3830 : BitVec 32 := Scalar.subi c1_i32_2291 v9
  ![v3830.toNat]
def k0_off1012 (i : grid0.Coords) : Fin 3 → Nat :=
  let c1_i32_2291 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3830 : BitVec 32 := Scalar.subi c1_i32_2291 v9
  let arg1 : BitVec 32 := BitVec.ofNat 32 (i 1).val
  let c2_i32_2288 : BitVec 32 := 2#32
  let v3826 : BitVec 32 := Scalar.muli arg1 c2_i32_2288
  let c0_i32_2289 : BitVec 32 := 0#32
  let v3827 : BitVec 32 := Scalar.addi v3826 c0_i32_2289
  let c256_i32_2290 : BitVec 32 := 256#32
  let v3828 : BitVec 32 := Scalar.muli v3827 c256_i32_2290
  let c249_i32 : BitVec 32 := 249#32
  let v3829 : BitVec 32 := Scalar.addi v3828 c249_i32
  let c8_i32_2294 : BitVec 32 := 8#32
  let v3834 : BitVec 32 := Scalar.muli v3829 c8_i32_2294
  let v3835 : BitVec 32 := v3834
  let c0_i32_2295 : BitVec 32 := 0#32
  ![v3830.toNat, v3835.toNat, 0]
def k0_off1013 (v3832 : BitVec 32) : Fin 2 → Nat :=
  let v3833 : BitVec 32 := v3832
  let c0_i32_2296 : BitVec 32 := 0#32
  ![v3833.toNat, 0]

def k0_chk251 (i : grid0.Coords) (v3832 : BitVec 32) : Prop :=
  (∀ (k0_h2 : k0_cond2 i = 1#1), 8 ∣ (k0_mult501 v3832).toNat) ∧
  (∀ (k0_h2 : k0_cond2 i = 1#1), ∀ a, (k0_off1013 v3832) a + S8x128.size a ≤ S131072x128.size a)
theorem k0_mult501_dvd : ∀ (i : grid0.Coords) (v3832 : BitVec 32) (k0_hw251 : k0_chk251 i v3832), ∀ (k0_h2 : k0_cond2 i = 1#1), 8 ∣ (k0_mult501 v3832).toNat := fun i v3832 k0_hw251 k0_h2 => k0_hw251.1 k0_h2
theorem k0_off1013_inb : ∀ (i : grid0.Coords) (v3832 : BitVec 32) (k0_hw251 : k0_chk251 i v3832), ∀ (k0_h2 : k0_cond2 i = 1#1), ∀ a, (k0_off1013 v3832) a + S8x128.size a ≤ S131072x128.size a := fun i v3832 k0_hw251 k0_h2 => k0_hw251.2 k0_h2

def k0_off1014 (i : grid0.Coords) : Fin 3 → Nat :=
  let c0_2301 : Index := 0#32
  let c0_2302 : Index := 0#32
  let arg1 : BitVec 32 := BitVec.ofNat 32 (i 1).val
  let c2_i32_2297 : BitVec 32 := 2#32
  let v3841 : BitVec 32 := Scalar.muli arg1 c2_i32_2297
  let c0_i32_2298 : BitVec 32 := 0#32
  let v3842 : BitVec 32 := Scalar.addi v3841 c0_i32_2298
  let c256_i32_2299 : BitVec 32 := 256#32
  let v3843 : BitVec 32 := Scalar.muli v3842 c256_i32_2299
  let c250_i32 : BitVec 32 := 250#32
  let v3844 : BitVec 32 := Scalar.addi v3843 c250_i32
  let v3846 : Index := Scalar.indexCast v3844
  ![0, 0, v3846.toNat]
def k0_mult503 (v3847 : BitVec 32) : BitVec 32 :=
  v3847

def k0_mult504 (i : grid0.Coords) : BitVec 32 :=
  let arg1 : BitVec 32 := BitVec.ofNat 32 (i 1).val
  let c2_i32_2297 : BitVec 32 := 2#32
  let v3841 : BitVec 32 := Scalar.muli arg1 c2_i32_2297
  let c0_i32_2298 : BitVec 32 := 0#32
  let v3842 : BitVec 32 := Scalar.addi v3841 c0_i32_2298
  let c256_i32_2299 : BitVec 32 := 256#32
  let v3843 : BitVec 32 := Scalar.muli v3842 c256_i32_2299
  let c250_i32 : BitVec 32 := 250#32
  let v3844 : BitVec 32 := Scalar.addi v3843 c250_i32
  let c8_i32_2303 : BitVec 32 := 8#32
  let v3849 : BitVec 32 := Scalar.muli v3844 c8_i32_2303
  v3849
def k0_off1015 (i : grid0.Coords) : Fin 1 → Nat :=
  let c1_i32_2300 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3845 : BitVec 32 := Scalar.subi c1_i32_2300 v9
  ![v3845.toNat]
def k0_off1016 (i : grid0.Coords) : Fin 3 → Nat :=
  let c1_i32_2300 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3845 : BitVec 32 := Scalar.subi c1_i32_2300 v9
  let arg1 : BitVec 32 := BitVec.ofNat 32 (i 1).val
  let c2_i32_2297 : BitVec 32 := 2#32
  let v3841 : BitVec 32 := Scalar.muli arg1 c2_i32_2297
  let c0_i32_2298 : BitVec 32 := 0#32
  let v3842 : BitVec 32 := Scalar.addi v3841 c0_i32_2298
  let c256_i32_2299 : BitVec 32 := 256#32
  let v3843 : BitVec 32 := Scalar.muli v3842 c256_i32_2299
  let c250_i32 : BitVec 32 := 250#32
  let v3844 : BitVec 32 := Scalar.addi v3843 c250_i32
  let c8_i32_2303 : BitVec 32 := 8#32
  let v3849 : BitVec 32 := Scalar.muli v3844 c8_i32_2303
  let v3850 : BitVec 32 := v3849
  let c0_i32_2304 : BitVec 32 := 0#32
  ![v3845.toNat, v3850.toNat, 0]
def k0_off1017 (v3847 : BitVec 32) : Fin 2 → Nat :=
  let v3848 : BitVec 32 := v3847
  let c0_i32_2305 : BitVec 32 := 0#32
  ![v3848.toNat, 0]

def k0_chk252 (i : grid0.Coords) (v3847 : BitVec 32) : Prop :=
  (∀ (k0_h2 : k0_cond2 i = 1#1), 8 ∣ (k0_mult503 v3847).toNat) ∧
  (∀ (k0_h2 : k0_cond2 i = 1#1), ∀ a, (k0_off1017 v3847) a + S8x128.size a ≤ S131072x128.size a)
theorem k0_mult503_dvd : ∀ (i : grid0.Coords) (v3847 : BitVec 32) (k0_hw252 : k0_chk252 i v3847), ∀ (k0_h2 : k0_cond2 i = 1#1), 8 ∣ (k0_mult503 v3847).toNat := fun i v3847 k0_hw252 k0_h2 => k0_hw252.1 k0_h2
theorem k0_off1017_inb : ∀ (i : grid0.Coords) (v3847 : BitVec 32) (k0_hw252 : k0_chk252 i v3847), ∀ (k0_h2 : k0_cond2 i = 1#1), ∀ a, (k0_off1017 v3847) a + S8x128.size a ≤ S131072x128.size a := fun i v3847 k0_hw252 k0_h2 => k0_hw252.2 k0_h2

def k0_off1018 (i : grid0.Coords) : Fin 3 → Nat :=
  let c0_2310 : Index := 0#32
  let c0_2311 : Index := 0#32
  let arg1 : BitVec 32 := BitVec.ofNat 32 (i 1).val
  let c2_i32_2306 : BitVec 32 := 2#32
  let v3856 : BitVec 32 := Scalar.muli arg1 c2_i32_2306
  let c0_i32_2307 : BitVec 32 := 0#32
  let v3857 : BitVec 32 := Scalar.addi v3856 c0_i32_2307
  let c256_i32_2308 : BitVec 32 := 256#32
  let v3858 : BitVec 32 := Scalar.muli v3857 c256_i32_2308
  let c251_i32 : BitVec 32 := 251#32
  let v3859 : BitVec 32 := Scalar.addi v3858 c251_i32
  let v3861 : Index := Scalar.indexCast v3859
  ![0, 0, v3861.toNat]
def k0_mult505 (v3862 : BitVec 32) : BitVec 32 :=
  v3862

def k0_mult506 (i : grid0.Coords) : BitVec 32 :=
  let arg1 : BitVec 32 := BitVec.ofNat 32 (i 1).val
  let c2_i32_2306 : BitVec 32 := 2#32
  let v3856 : BitVec 32 := Scalar.muli arg1 c2_i32_2306
  let c0_i32_2307 : BitVec 32 := 0#32
  let v3857 : BitVec 32 := Scalar.addi v3856 c0_i32_2307
  let c256_i32_2308 : BitVec 32 := 256#32
  let v3858 : BitVec 32 := Scalar.muli v3857 c256_i32_2308
  let c251_i32 : BitVec 32 := 251#32
  let v3859 : BitVec 32 := Scalar.addi v3858 c251_i32
  let c8_i32_2312 : BitVec 32 := 8#32
  let v3864 : BitVec 32 := Scalar.muli v3859 c8_i32_2312
  v3864
def k0_off1019 (i : grid0.Coords) : Fin 1 → Nat :=
  let c1_i32_2309 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3860 : BitVec 32 := Scalar.subi c1_i32_2309 v9
  ![v3860.toNat]
def k0_off1020 (i : grid0.Coords) : Fin 3 → Nat :=
  let c1_i32_2309 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3860 : BitVec 32 := Scalar.subi c1_i32_2309 v9
  let arg1 : BitVec 32 := BitVec.ofNat 32 (i 1).val
  let c2_i32_2306 : BitVec 32 := 2#32
  let v3856 : BitVec 32 := Scalar.muli arg1 c2_i32_2306
  let c0_i32_2307 : BitVec 32 := 0#32
  let v3857 : BitVec 32 := Scalar.addi v3856 c0_i32_2307
  let c256_i32_2308 : BitVec 32 := 256#32
  let v3858 : BitVec 32 := Scalar.muli v3857 c256_i32_2308
  let c251_i32 : BitVec 32 := 251#32
  let v3859 : BitVec 32 := Scalar.addi v3858 c251_i32
  let c8_i32_2312 : BitVec 32 := 8#32
  let v3864 : BitVec 32 := Scalar.muli v3859 c8_i32_2312
  let v3865 : BitVec 32 := v3864
  let c0_i32_2313 : BitVec 32 := 0#32
  ![v3860.toNat, v3865.toNat, 0]
def k0_off1021 (v3862 : BitVec 32) : Fin 2 → Nat :=
  let v3863 : BitVec 32 := v3862
  let c0_i32_2314 : BitVec 32 := 0#32
  ![v3863.toNat, 0]

def k0_chk253 (i : grid0.Coords) (v3862 : BitVec 32) : Prop :=
  (∀ (k0_h2 : k0_cond2 i = 1#1), 8 ∣ (k0_mult505 v3862).toNat) ∧
  (∀ (k0_h2 : k0_cond2 i = 1#1), ∀ a, (k0_off1021 v3862) a + S8x128.size a ≤ S131072x128.size a)
theorem k0_mult505_dvd : ∀ (i : grid0.Coords) (v3862 : BitVec 32) (k0_hw253 : k0_chk253 i v3862), ∀ (k0_h2 : k0_cond2 i = 1#1), 8 ∣ (k0_mult505 v3862).toNat := fun i v3862 k0_hw253 k0_h2 => k0_hw253.1 k0_h2
theorem k0_off1021_inb : ∀ (i : grid0.Coords) (v3862 : BitVec 32) (k0_hw253 : k0_chk253 i v3862), ∀ (k0_h2 : k0_cond2 i = 1#1), ∀ a, (k0_off1021 v3862) a + S8x128.size a ≤ S131072x128.size a := fun i v3862 k0_hw253 k0_h2 => k0_hw253.2 k0_h2

def k0_off1022 (i : grid0.Coords) : Fin 3 → Nat :=
  let c0_2319 : Index := 0#32
  let c0_2320 : Index := 0#32
  let arg1 : BitVec 32 := BitVec.ofNat 32 (i 1).val
  let c2_i32_2315 : BitVec 32 := 2#32
  let v3871 : BitVec 32 := Scalar.muli arg1 c2_i32_2315
  let c0_i32_2316 : BitVec 32 := 0#32
  let v3872 : BitVec 32 := Scalar.addi v3871 c0_i32_2316
  let c256_i32_2317 : BitVec 32 := 256#32
  let v3873 : BitVec 32 := Scalar.muli v3872 c256_i32_2317
  let c252_i32 : BitVec 32 := 252#32
  let v3874 : BitVec 32 := Scalar.addi v3873 c252_i32
  let v3876 : Index := Scalar.indexCast v3874
  ![0, 0, v3876.toNat]
def k0_mult507 (v3877 : BitVec 32) : BitVec 32 :=
  v3877

def k0_mult508 (i : grid0.Coords) : BitVec 32 :=
  let arg1 : BitVec 32 := BitVec.ofNat 32 (i 1).val
  let c2_i32_2315 : BitVec 32 := 2#32
  let v3871 : BitVec 32 := Scalar.muli arg1 c2_i32_2315
  let c0_i32_2316 : BitVec 32 := 0#32
  let v3872 : BitVec 32 := Scalar.addi v3871 c0_i32_2316
  let c256_i32_2317 : BitVec 32 := 256#32
  let v3873 : BitVec 32 := Scalar.muli v3872 c256_i32_2317
  let c252_i32 : BitVec 32 := 252#32
  let v3874 : BitVec 32 := Scalar.addi v3873 c252_i32
  let c8_i32_2321 : BitVec 32 := 8#32
  let v3879 : BitVec 32 := Scalar.muli v3874 c8_i32_2321
  v3879
def k0_off1023 (i : grid0.Coords) : Fin 1 → Nat :=
  let c1_i32_2318 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3875 : BitVec 32 := Scalar.subi c1_i32_2318 v9
  ![v3875.toNat]
def k0_off1024 (i : grid0.Coords) : Fin 3 → Nat :=
  let c1_i32_2318 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3875 : BitVec 32 := Scalar.subi c1_i32_2318 v9
  let arg1 : BitVec 32 := BitVec.ofNat 32 (i 1).val
  let c2_i32_2315 : BitVec 32 := 2#32
  let v3871 : BitVec 32 := Scalar.muli arg1 c2_i32_2315
  let c0_i32_2316 : BitVec 32 := 0#32
  let v3872 : BitVec 32 := Scalar.addi v3871 c0_i32_2316
  let c256_i32_2317 : BitVec 32 := 256#32
  let v3873 : BitVec 32 := Scalar.muli v3872 c256_i32_2317
  let c252_i32 : BitVec 32 := 252#32
  let v3874 : BitVec 32 := Scalar.addi v3873 c252_i32
  let c8_i32_2321 : BitVec 32 := 8#32
  let v3879 : BitVec 32 := Scalar.muli v3874 c8_i32_2321
  let v3880 : BitVec 32 := v3879
  let c0_i32_2322 : BitVec 32 := 0#32
  ![v3875.toNat, v3880.toNat, 0]
def k0_off1025 (v3877 : BitVec 32) : Fin 2 → Nat :=
  let v3878 : BitVec 32 := v3877
  let c0_i32_2323 : BitVec 32 := 0#32
  ![v3878.toNat, 0]

def k0_chk254 (i : grid0.Coords) (v3877 : BitVec 32) : Prop :=
  (∀ (k0_h2 : k0_cond2 i = 1#1), 8 ∣ (k0_mult507 v3877).toNat) ∧
  (∀ (k0_h2 : k0_cond2 i = 1#1), ∀ a, (k0_off1025 v3877) a + S8x128.size a ≤ S131072x128.size a)
theorem k0_mult507_dvd : ∀ (i : grid0.Coords) (v3877 : BitVec 32) (k0_hw254 : k0_chk254 i v3877), ∀ (k0_h2 : k0_cond2 i = 1#1), 8 ∣ (k0_mult507 v3877).toNat := fun i v3877 k0_hw254 k0_h2 => k0_hw254.1 k0_h2
theorem k0_off1025_inb : ∀ (i : grid0.Coords) (v3877 : BitVec 32) (k0_hw254 : k0_chk254 i v3877), ∀ (k0_h2 : k0_cond2 i = 1#1), ∀ a, (k0_off1025 v3877) a + S8x128.size a ≤ S131072x128.size a := fun i v3877 k0_hw254 k0_h2 => k0_hw254.2 k0_h2

def k0_off1026 (i : grid0.Coords) : Fin 3 → Nat :=
  let c0_2328 : Index := 0#32
  let c0_2329 : Index := 0#32
  let arg1 : BitVec 32 := BitVec.ofNat 32 (i 1).val
  let c2_i32_2324 : BitVec 32 := 2#32
  let v3886 : BitVec 32 := Scalar.muli arg1 c2_i32_2324
  let c0_i32_2325 : BitVec 32 := 0#32
  let v3887 : BitVec 32 := Scalar.addi v3886 c0_i32_2325
  let c256_i32_2326 : BitVec 32 := 256#32
  let v3888 : BitVec 32 := Scalar.muli v3887 c256_i32_2326
  let c253_i32 : BitVec 32 := 253#32
  let v3889 : BitVec 32 := Scalar.addi v3888 c253_i32
  let v3891 : Index := Scalar.indexCast v3889
  ![0, 0, v3891.toNat]
def k0_mult509 (v3892 : BitVec 32) : BitVec 32 :=
  v3892

def k0_mult510 (i : grid0.Coords) : BitVec 32 :=
  let arg1 : BitVec 32 := BitVec.ofNat 32 (i 1).val
  let c2_i32_2324 : BitVec 32 := 2#32
  let v3886 : BitVec 32 := Scalar.muli arg1 c2_i32_2324
  let c0_i32_2325 : BitVec 32 := 0#32
  let v3887 : BitVec 32 := Scalar.addi v3886 c0_i32_2325
  let c256_i32_2326 : BitVec 32 := 256#32
  let v3888 : BitVec 32 := Scalar.muli v3887 c256_i32_2326
  let c253_i32 : BitVec 32 := 253#32
  let v3889 : BitVec 32 := Scalar.addi v3888 c253_i32
  let c8_i32_2330 : BitVec 32 := 8#32
  let v3894 : BitVec 32 := Scalar.muli v3889 c8_i32_2330
  v3894
def k0_off1027 (i : grid0.Coords) : Fin 1 → Nat :=
  let c1_i32_2327 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3890 : BitVec 32 := Scalar.subi c1_i32_2327 v9
  ![v3890.toNat]
def k0_off1028 (i : grid0.Coords) : Fin 3 → Nat :=
  let c1_i32_2327 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3890 : BitVec 32 := Scalar.subi c1_i32_2327 v9
  let arg1 : BitVec 32 := BitVec.ofNat 32 (i 1).val
  let c2_i32_2324 : BitVec 32 := 2#32
  let v3886 : BitVec 32 := Scalar.muli arg1 c2_i32_2324
  let c0_i32_2325 : BitVec 32 := 0#32
  let v3887 : BitVec 32 := Scalar.addi v3886 c0_i32_2325
  let c256_i32_2326 : BitVec 32 := 256#32
  let v3888 : BitVec 32 := Scalar.muli v3887 c256_i32_2326
  let c253_i32 : BitVec 32 := 253#32
  let v3889 : BitVec 32 := Scalar.addi v3888 c253_i32
  let c8_i32_2330 : BitVec 32 := 8#32
  let v3894 : BitVec 32 := Scalar.muli v3889 c8_i32_2330
  let v3895 : BitVec 32 := v3894
  let c0_i32_2331 : BitVec 32 := 0#32
  ![v3890.toNat, v3895.toNat, 0]
def k0_off1029 (v3892 : BitVec 32) : Fin 2 → Nat :=
  let v3893 : BitVec 32 := v3892
  let c0_i32_2332 : BitVec 32 := 0#32
  ![v3893.toNat, 0]

def k0_chk255 (i : grid0.Coords) (v3892 : BitVec 32) : Prop :=
  (∀ (k0_h2 : k0_cond2 i = 1#1), 8 ∣ (k0_mult509 v3892).toNat) ∧
  (∀ (k0_h2 : k0_cond2 i = 1#1), ∀ a, (k0_off1029 v3892) a + S8x128.size a ≤ S131072x128.size a)
theorem k0_mult509_dvd : ∀ (i : grid0.Coords) (v3892 : BitVec 32) (k0_hw255 : k0_chk255 i v3892), ∀ (k0_h2 : k0_cond2 i = 1#1), 8 ∣ (k0_mult509 v3892).toNat := fun i v3892 k0_hw255 k0_h2 => k0_hw255.1 k0_h2
theorem k0_off1029_inb : ∀ (i : grid0.Coords) (v3892 : BitVec 32) (k0_hw255 : k0_chk255 i v3892), ∀ (k0_h2 : k0_cond2 i = 1#1), ∀ a, (k0_off1029 v3892) a + S8x128.size a ≤ S131072x128.size a := fun i v3892 k0_hw255 k0_h2 => k0_hw255.2 k0_h2

def k0_off1030 (i : grid0.Coords) : Fin 3 → Nat :=
  let c0_2337 : Index := 0#32
  let c0_2338 : Index := 0#32
  let arg1 : BitVec 32 := BitVec.ofNat 32 (i 1).val
  let c2_i32_2333 : BitVec 32 := 2#32
  let v3901 : BitVec 32 := Scalar.muli arg1 c2_i32_2333
  let c0_i32_2334 : BitVec 32 := 0#32
  let v3902 : BitVec 32 := Scalar.addi v3901 c0_i32_2334
  let c256_i32_2335 : BitVec 32 := 256#32
  let v3903 : BitVec 32 := Scalar.muli v3902 c256_i32_2335
  let c254_i32 : BitVec 32 := 254#32
  let v3904 : BitVec 32 := Scalar.addi v3903 c254_i32
  let v3906 : Index := Scalar.indexCast v3904
  ![0, 0, v3906.toNat]
def k0_mult511 (v3907 : BitVec 32) : BitVec 32 :=
  v3907

def k0_mult512 (i : grid0.Coords) : BitVec 32 :=
  let arg1 : BitVec 32 := BitVec.ofNat 32 (i 1).val
  let c2_i32_2333 : BitVec 32 := 2#32
  let v3901 : BitVec 32 := Scalar.muli arg1 c2_i32_2333
  let c0_i32_2334 : BitVec 32 := 0#32
  let v3902 : BitVec 32 := Scalar.addi v3901 c0_i32_2334
  let c256_i32_2335 : BitVec 32 := 256#32
  let v3903 : BitVec 32 := Scalar.muli v3902 c256_i32_2335
  let c254_i32 : BitVec 32 := 254#32
  let v3904 : BitVec 32 := Scalar.addi v3903 c254_i32
  let c8_i32_2339 : BitVec 32 := 8#32
  let v3909 : BitVec 32 := Scalar.muli v3904 c8_i32_2339
  v3909
def k0_off1031 (i : grid0.Coords) : Fin 1 → Nat :=
  let c1_i32_2336 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3905 : BitVec 32 := Scalar.subi c1_i32_2336 v9
  ![v3905.toNat]
def k0_off1032 (i : grid0.Coords) : Fin 3 → Nat :=
  let c1_i32_2336 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3905 : BitVec 32 := Scalar.subi c1_i32_2336 v9
  let arg1 : BitVec 32 := BitVec.ofNat 32 (i 1).val
  let c2_i32_2333 : BitVec 32 := 2#32
  let v3901 : BitVec 32 := Scalar.muli arg1 c2_i32_2333
  let c0_i32_2334 : BitVec 32 := 0#32
  let v3902 : BitVec 32 := Scalar.addi v3901 c0_i32_2334
  let c256_i32_2335 : BitVec 32 := 256#32
  let v3903 : BitVec 32 := Scalar.muli v3902 c256_i32_2335
  let c254_i32 : BitVec 32 := 254#32
  let v3904 : BitVec 32 := Scalar.addi v3903 c254_i32
  let c8_i32_2339 : BitVec 32 := 8#32
  let v3909 : BitVec 32 := Scalar.muli v3904 c8_i32_2339
  let v3910 : BitVec 32 := v3909
  let c0_i32_2340 : BitVec 32 := 0#32
  ![v3905.toNat, v3910.toNat, 0]
def k0_off1033 (v3907 : BitVec 32) : Fin 2 → Nat :=
  let v3908 : BitVec 32 := v3907
  let c0_i32_2341 : BitVec 32 := 0#32
  ![v3908.toNat, 0]

def k0_chk256 (i : grid0.Coords) (v3907 : BitVec 32) : Prop :=
  (∀ (k0_h2 : k0_cond2 i = 1#1), 8 ∣ (k0_mult511 v3907).toNat) ∧
  (∀ (k0_h2 : k0_cond2 i = 1#1), ∀ a, (k0_off1033 v3907) a + S8x128.size a ≤ S131072x128.size a)
theorem k0_mult511_dvd : ∀ (i : grid0.Coords) (v3907 : BitVec 32) (k0_hw256 : k0_chk256 i v3907), ∀ (k0_h2 : k0_cond2 i = 1#1), 8 ∣ (k0_mult511 v3907).toNat := fun i v3907 k0_hw256 k0_h2 => k0_hw256.1 k0_h2
theorem k0_off1033_inb : ∀ (i : grid0.Coords) (v3907 : BitVec 32) (k0_hw256 : k0_chk256 i v3907), ∀ (k0_h2 : k0_cond2 i = 1#1), ∀ a, (k0_off1033 v3907) a + S8x128.size a ≤ S131072x128.size a := fun i v3907 k0_hw256 k0_h2 => k0_hw256.2 k0_h2

def k0_off1034 (i : grid0.Coords) : Fin 3 → Nat :=
  let c0_2346 : Index := 0#32
  let c0_2347 : Index := 0#32
  let arg1 : BitVec 32 := BitVec.ofNat 32 (i 1).val
  let c2_i32_2342 : BitVec 32 := 2#32
  let v3916 : BitVec 32 := Scalar.muli arg1 c2_i32_2342
  let c0_i32_2343 : BitVec 32 := 0#32
  let v3917 : BitVec 32 := Scalar.addi v3916 c0_i32_2343
  let c256_i32_2344 : BitVec 32 := 256#32
  let v3918 : BitVec 32 := Scalar.muli v3917 c256_i32_2344
  let c255_i32 : BitVec 32 := 255#32
  let v3919 : BitVec 32 := Scalar.addi v3918 c255_i32
  let v3921 : Index := Scalar.indexCast v3919
  ![0, 0, v3921.toNat]
def k0_mult513 (v3922 : BitVec 32) : BitVec 32 :=
  v3922

def k0_mult514 (i : grid0.Coords) : BitVec 32 :=
  let arg1 : BitVec 32 := BitVec.ofNat 32 (i 1).val
  let c2_i32_2342 : BitVec 32 := 2#32
  let v3916 : BitVec 32 := Scalar.muli arg1 c2_i32_2342
  let c0_i32_2343 : BitVec 32 := 0#32
  let v3917 : BitVec 32 := Scalar.addi v3916 c0_i32_2343
  let c256_i32_2344 : BitVec 32 := 256#32
  let v3918 : BitVec 32 := Scalar.muli v3917 c256_i32_2344
  let c255_i32 : BitVec 32 := 255#32
  let v3919 : BitVec 32 := Scalar.addi v3918 c255_i32
  let c8_i32_2348 : BitVec 32 := 8#32
  let v3924 : BitVec 32 := Scalar.muli v3919 c8_i32_2348
  v3924
def k0_off1035 (i : grid0.Coords) : Fin 1 → Nat :=
  let c1_i32_2345 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3920 : BitVec 32 := Scalar.subi c1_i32_2345 v9
  ![v3920.toNat]
def k0_off1036 (i : grid0.Coords) : Fin 3 → Nat :=
  let c1_i32_2345 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3920 : BitVec 32 := Scalar.subi c1_i32_2345 v9
  let arg1 : BitVec 32 := BitVec.ofNat 32 (i 1).val
  let c2_i32_2342 : BitVec 32 := 2#32
  let v3916 : BitVec 32 := Scalar.muli arg1 c2_i32_2342
  let c0_i32_2343 : BitVec 32 := 0#32
  let v3917 : BitVec 32 := Scalar.addi v3916 c0_i32_2343
  let c256_i32_2344 : BitVec 32 := 256#32
  let v3918 : BitVec 32 := Scalar.muli v3917 c256_i32_2344
  let c255_i32 : BitVec 32 := 255#32
  let v3919 : BitVec 32 := Scalar.addi v3918 c255_i32
  let c8_i32_2348 : BitVec 32 := 8#32
  let v3924 : BitVec 32 := Scalar.muli v3919 c8_i32_2348
  let v3925 : BitVec 32 := v3924
  let c0_i32_2349 : BitVec 32 := 0#32
  ![v3920.toNat, v3925.toNat, 0]
def k0_off1037 (v3922 : BitVec 32) : Fin 2 → Nat :=
  let v3923 : BitVec 32 := v3922
  let c0_i32_2350 : BitVec 32 := 0#32
  ![v3923.toNat, 0]

def k0_chk257 (i : grid0.Coords) (v3922 : BitVec 32) : Prop :=
  (∀ (k0_h2 : k0_cond2 i = 1#1), 8 ∣ (k0_mult513 v3922).toNat) ∧
  (∀ (k0_h2 : k0_cond2 i = 1#1), ∀ a, (k0_off1037 v3922) a + S8x128.size a ≤ S131072x128.size a)
theorem k0_mult513_dvd : ∀ (i : grid0.Coords) (v3922 : BitVec 32) (k0_hw257 : k0_chk257 i v3922), ∀ (k0_h2 : k0_cond2 i = 1#1), 8 ∣ (k0_mult513 v3922).toNat := fun i v3922 k0_hw257 k0_h2 => k0_hw257.1 k0_h2
theorem k0_off1037_inb : ∀ (i : grid0.Coords) (v3922 : BitVec 32) (k0_hw257 : k0_chk257 i v3922), ∀ (k0_h2 : k0_cond2 i = 1#1), ∀ a, (k0_off1037 v3922) a + S8x128.size a ≤ S131072x128.size a := fun i v3922 k0_hw257 k0_h2 => k0_hw257.2 k0_h2

def k0_off1038 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3931 : Index := Scalar.indexCast v9
  let c8192 : Index := 8192#32
  let c0_2351 : Index := 0#32
  ![v3931.toNat, 8192, 0]
def k0_off1039 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3934 : Index := Scalar.indexCast v9
  let c8193 : Index := 8193#32
  let c0_2352 : Index := 0#32
  ![v3934.toNat, 8193, 0]
def k0_off1040 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3937 : Index := Scalar.indexCast v9
  let c8194 : Index := 8194#32
  let c0_2353 : Index := 0#32
  ![v3937.toNat, 8194, 0]
def k0_off1041 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3940 : Index := Scalar.indexCast v9
  let c8195 : Index := 8195#32
  let c0_2354 : Index := 0#32
  ![v3940.toNat, 8195, 0]
def k0_off1042 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3943 : Index := Scalar.indexCast v9
  let c8196 : Index := 8196#32
  let c0_2355 : Index := 0#32
  ![v3943.toNat, 8196, 0]
def k0_off1043 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3946 : Index := Scalar.indexCast v9
  let c8197 : Index := 8197#32
  let c0_2356 : Index := 0#32
  ![v3946.toNat, 8197, 0]
def k0_off1044 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3949 : Index := Scalar.indexCast v9
  let c8198 : Index := 8198#32
  let c0_2357 : Index := 0#32
  ![v3949.toNat, 8198, 0]
def k0_off1045 (i : grid0.Coords) : Fin 3 → Nat :=
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3952 : Index := Scalar.indexCast v9
  let c8199 : Index := 8199#32
  let c0_2358 : Index := 0#32
  ![v3952.toNat, 8199, 0]
def k0_off1046 (i : grid0.Coords) : Fin 3 → Nat :=
  let c0_2375 : Index := 0#32
  let c0_2376 : Index := 0#32
  let arg1 : BitVec 32 := BitVec.ofNat 32 (i 1).val
  let c2_i32_2370 : BitVec 32 := 2#32
  let v3982 : BitVec 32 := Scalar.muli arg1 c2_i32_2370
  let c1_i32_2371 : BitVec 32 := 1#32
  let v3983 : BitVec 32 := Scalar.addi v3982 c1_i32_2371
  let c256_i32_2372 : BitVec 32 := 256#32
  let v3984 : BitVec 32 := Scalar.muli v3983 c256_i32_2372
  let c0_i32_2373 : BitVec 32 := 0#32
  let v3985 : BitVec 32 := Scalar.addi v3984 c0_i32_2373
  let v3987 : Index := Scalar.indexCast v3985
  ![0, 0, v3987.toNat]
def k0_mult515 (v3988 : BitVec 32) : BitVec 32 :=
  v3988

def k0_mult516 (i : grid0.Coords) : BitVec 32 :=
  let arg1 : BitVec 32 := BitVec.ofNat 32 (i 1).val
  let c2_i32_2370 : BitVec 32 := 2#32
  let v3982 : BitVec 32 := Scalar.muli arg1 c2_i32_2370
  let c1_i32_2371 : BitVec 32 := 1#32
  let v3983 : BitVec 32 := Scalar.addi v3982 c1_i32_2371
  let c256_i32_2372 : BitVec 32 := 256#32
  let v3984 : BitVec 32 := Scalar.muli v3983 c256_i32_2372
  let c0_i32_2373 : BitVec 32 := 0#32
  let v3985 : BitVec 32 := Scalar.addi v3984 c0_i32_2373
  let c8_i32_2377 : BitVec 32 := 8#32
  let v3990 : BitVec 32 := Scalar.muli v3985 c8_i32_2377
  v3990
def k0_off1047 (i : grid0.Coords) : Fin 1 → Nat :=
  let c1_i32_2374 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3986 : BitVec 32 := Scalar.subi c1_i32_2374 v9
  ![v3986.toNat]
def k0_off1048 (i : grid0.Coords) : Fin 3 → Nat :=
  let c1_i32_2374 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3986 : BitVec 32 := Scalar.subi c1_i32_2374 v9
  let arg1 : BitVec 32 := BitVec.ofNat 32 (i 1).val
  let c2_i32_2370 : BitVec 32 := 2#32
  let v3982 : BitVec 32 := Scalar.muli arg1 c2_i32_2370
  let c1_i32_2371 : BitVec 32 := 1#32
  let v3983 : BitVec 32 := Scalar.addi v3982 c1_i32_2371
  let c256_i32_2372 : BitVec 32 := 256#32
  let v3984 : BitVec 32 := Scalar.muli v3983 c256_i32_2372
  let c0_i32_2373 : BitVec 32 := 0#32
  let v3985 : BitVec 32 := Scalar.addi v3984 c0_i32_2373
  let c8_i32_2377 : BitVec 32 := 8#32
  let v3990 : BitVec 32 := Scalar.muli v3985 c8_i32_2377
  let v3991 : BitVec 32 := v3990
  let c0_i32_2378 : BitVec 32 := 0#32
  ![v3986.toNat, v3991.toNat, 0]
def k0_off1049 (v3988 : BitVec 32) : Fin 2 → Nat :=
  let v3989 : BitVec 32 := v3988
  let c0_i32_2379 : BitVec 32 := 0#32
  ![v3989.toNat, 0]

def k0_chk258 (i : grid0.Coords) (v3988 : BitVec 32) : Prop :=
  (∀ (k0_h2 : k0_cond2 i = 1#1), 8 ∣ (k0_mult515 v3988).toNat) ∧
  (∀ (k0_h2 : k0_cond2 i = 1#1), ∀ a, (k0_off1049 v3988) a + S8x128.size a ≤ S131072x128.size a)
theorem k0_mult515_dvd : ∀ (i : grid0.Coords) (v3988 : BitVec 32) (k0_hw258 : k0_chk258 i v3988), ∀ (k0_h2 : k0_cond2 i = 1#1), 8 ∣ (k0_mult515 v3988).toNat := fun i v3988 k0_hw258 k0_h2 => k0_hw258.1 k0_h2
theorem k0_off1049_inb : ∀ (i : grid0.Coords) (v3988 : BitVec 32) (k0_hw258 : k0_chk258 i v3988), ∀ (k0_h2 : k0_cond2 i = 1#1), ∀ a, (k0_off1049 v3988) a + S8x128.size a ≤ S131072x128.size a := fun i v3988 k0_hw258 k0_h2 => k0_hw258.2 k0_h2

def k0_off1050 (i : grid0.Coords) : Fin 3 → Nat :=
  let c0_2385 : Index := 0#32
  let c0_2386 : Index := 0#32
  let arg1 : BitVec 32 := BitVec.ofNat 32 (i 1).val
  let c2_i32_2380 : BitVec 32 := 2#32
  let v3997 : BitVec 32 := Scalar.muli arg1 c2_i32_2380
  let c1_i32_2381 : BitVec 32 := 1#32
  let v3998 : BitVec 32 := Scalar.addi v3997 c1_i32_2381
  let c256_i32_2382 : BitVec 32 := 256#32
  let v3999 : BitVec 32 := Scalar.muli v3998 c256_i32_2382
  let c1_i32_2383 : BitVec 32 := 1#32
  let v4000 : BitVec 32 := Scalar.addi v3999 c1_i32_2383
  let v4002 : Index := Scalar.indexCast v4000
  ![0, 0, v4002.toNat]
def k0_mult517 (v4003 : BitVec 32) : BitVec 32 :=
  v4003

def k0_mult518 (i : grid0.Coords) : BitVec 32 :=
  let arg1 : BitVec 32 := BitVec.ofNat 32 (i 1).val
  let c2_i32_2380 : BitVec 32 := 2#32
  let v3997 : BitVec 32 := Scalar.muli arg1 c2_i32_2380
  let c1_i32_2381 : BitVec 32 := 1#32
  let v3998 : BitVec 32 := Scalar.addi v3997 c1_i32_2381
  let c256_i32_2382 : BitVec 32 := 256#32
  let v3999 : BitVec 32 := Scalar.muli v3998 c256_i32_2382
  let c1_i32_2383 : BitVec 32 := 1#32
  let v4000 : BitVec 32 := Scalar.addi v3999 c1_i32_2383
  let c8_i32_2387 : BitVec 32 := 8#32
  let v4005 : BitVec 32 := Scalar.muli v4000 c8_i32_2387
  v4005
def k0_off1051 (i : grid0.Coords) : Fin 1 → Nat :=
  let c1_i32_2384 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4001 : BitVec 32 := Scalar.subi c1_i32_2384 v9
  ![v4001.toNat]
def k0_off1052 (i : grid0.Coords) : Fin 3 → Nat :=
  let c1_i32_2384 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4001 : BitVec 32 := Scalar.subi c1_i32_2384 v9
  let arg1 : BitVec 32 := BitVec.ofNat 32 (i 1).val
  let c2_i32_2380 : BitVec 32 := 2#32
  let v3997 : BitVec 32 := Scalar.muli arg1 c2_i32_2380
  let c1_i32_2381 : BitVec 32 := 1#32
  let v3998 : BitVec 32 := Scalar.addi v3997 c1_i32_2381
  let c256_i32_2382 : BitVec 32 := 256#32
  let v3999 : BitVec 32 := Scalar.muli v3998 c256_i32_2382
  let c1_i32_2383 : BitVec 32 := 1#32
  let v4000 : BitVec 32 := Scalar.addi v3999 c1_i32_2383
  let c8_i32_2387 : BitVec 32 := 8#32
  let v4005 : BitVec 32 := Scalar.muli v4000 c8_i32_2387
  let v4006 : BitVec 32 := v4005
  let c0_i32_2388 : BitVec 32 := 0#32
  ![v4001.toNat, v4006.toNat, 0]
def k0_off1053 (v4003 : BitVec 32) : Fin 2 → Nat :=
  let v4004 : BitVec 32 := v4003
  let c0_i32_2389 : BitVec 32 := 0#32
  ![v4004.toNat, 0]

def k0_chk259 (i : grid0.Coords) (v4003 : BitVec 32) : Prop :=
  (∀ (k0_h2 : k0_cond2 i = 1#1), 8 ∣ (k0_mult517 v4003).toNat) ∧
  (∀ (k0_h2 : k0_cond2 i = 1#1), ∀ a, (k0_off1053 v4003) a + S8x128.size a ≤ S131072x128.size a)
theorem k0_mult517_dvd : ∀ (i : grid0.Coords) (v4003 : BitVec 32) (k0_hw259 : k0_chk259 i v4003), ∀ (k0_h2 : k0_cond2 i = 1#1), 8 ∣ (k0_mult517 v4003).toNat := fun i v4003 k0_hw259 k0_h2 => k0_hw259.1 k0_h2
theorem k0_off1053_inb : ∀ (i : grid0.Coords) (v4003 : BitVec 32) (k0_hw259 : k0_chk259 i v4003), ∀ (k0_h2 : k0_cond2 i = 1#1), ∀ a, (k0_off1053 v4003) a + S8x128.size a ≤ S131072x128.size a := fun i v4003 k0_hw259 k0_h2 => k0_hw259.2 k0_h2

def k0_off1054 (i : grid0.Coords) : Fin 3 → Nat :=
  let c0_2395 : Index := 0#32
  let c0_2396 : Index := 0#32
  let arg1 : BitVec 32 := BitVec.ofNat 32 (i 1).val
  let c2_i32_2390 : BitVec 32 := 2#32
  let v4012 : BitVec 32 := Scalar.muli arg1 c2_i32_2390
  let c1_i32_2391 : BitVec 32 := 1#32
  let v4013 : BitVec 32 := Scalar.addi v4012 c1_i32_2391
  let c256_i32_2392 : BitVec 32 := 256#32
  let v4014 : BitVec 32 := Scalar.muli v4013 c256_i32_2392
  let c2_i32_2393 : BitVec 32 := 2#32
  let v4015 : BitVec 32 := Scalar.addi v4014 c2_i32_2393
  let v4017 : Index := Scalar.indexCast v4015
  ![0, 0, v4017.toNat]
def k0_mult519 (v4018 : BitVec 32) : BitVec 32 :=
  v4018

def k0_mult520 (i : grid0.Coords) : BitVec 32 :=
  let arg1 : BitVec 32 := BitVec.ofNat 32 (i 1).val
  let c2_i32_2390 : BitVec 32 := 2#32
  let v4012 : BitVec 32 := Scalar.muli arg1 c2_i32_2390
  let c1_i32_2391 : BitVec 32 := 1#32
  let v4013 : BitVec 32 := Scalar.addi v4012 c1_i32_2391
  let c256_i32_2392 : BitVec 32 := 256#32
  let v4014 : BitVec 32 := Scalar.muli v4013 c256_i32_2392
  let c2_i32_2393 : BitVec 32 := 2#32
  let v4015 : BitVec 32 := Scalar.addi v4014 c2_i32_2393
  let c8_i32_2397 : BitVec 32 := 8#32
  let v4020 : BitVec 32 := Scalar.muli v4015 c8_i32_2397
  v4020
def k0_off1055 (i : grid0.Coords) : Fin 1 → Nat :=
  let c1_i32_2394 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4016 : BitVec 32 := Scalar.subi c1_i32_2394 v9
  ![v4016.toNat]
def k0_off1056 (i : grid0.Coords) : Fin 3 → Nat :=
  let c1_i32_2394 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4016 : BitVec 32 := Scalar.subi c1_i32_2394 v9
  let arg1 : BitVec 32 := BitVec.ofNat 32 (i 1).val
  let c2_i32_2390 : BitVec 32 := 2#32
  let v4012 : BitVec 32 := Scalar.muli arg1 c2_i32_2390
  let c1_i32_2391 : BitVec 32 := 1#32
  let v4013 : BitVec 32 := Scalar.addi v4012 c1_i32_2391
  let c256_i32_2392 : BitVec 32 := 256#32
  let v4014 : BitVec 32 := Scalar.muli v4013 c256_i32_2392
  let c2_i32_2393 : BitVec 32 := 2#32
  let v4015 : BitVec 32 := Scalar.addi v4014 c2_i32_2393
  let c8_i32_2397 : BitVec 32 := 8#32
  let v4020 : BitVec 32 := Scalar.muli v4015 c8_i32_2397
  let v4021 : BitVec 32 := v4020
  let c0_i32_2398 : BitVec 32 := 0#32
  ![v4016.toNat, v4021.toNat, 0]
def k0_off1057 (v4018 : BitVec 32) : Fin 2 → Nat :=
  let v4019 : BitVec 32 := v4018
  let c0_i32_2399 : BitVec 32 := 0#32
  ![v4019.toNat, 0]

def k0_chk260 (i : grid0.Coords) (v4018 : BitVec 32) : Prop :=
  (∀ (k0_h2 : k0_cond2 i = 1#1), 8 ∣ (k0_mult519 v4018).toNat) ∧
  (∀ (k0_h2 : k0_cond2 i = 1#1), ∀ a, (k0_off1057 v4018) a + S8x128.size a ≤ S131072x128.size a)
theorem k0_mult519_dvd : ∀ (i : grid0.Coords) (v4018 : BitVec 32) (k0_hw260 : k0_chk260 i v4018), ∀ (k0_h2 : k0_cond2 i = 1#1), 8 ∣ (k0_mult519 v4018).toNat := fun i v4018 k0_hw260 k0_h2 => k0_hw260.1 k0_h2
theorem k0_off1057_inb : ∀ (i : grid0.Coords) (v4018 : BitVec 32) (k0_hw260 : k0_chk260 i v4018), ∀ (k0_h2 : k0_cond2 i = 1#1), ∀ a, (k0_off1057 v4018) a + S8x128.size a ≤ S131072x128.size a := fun i v4018 k0_hw260 k0_h2 => k0_hw260.2 k0_h2

def k0_off1058 (i : grid0.Coords) : Fin 3 → Nat :=
  let c0_2405 : Index := 0#32
  let c0_2406 : Index := 0#32
  let arg1 : BitVec 32 := BitVec.ofNat 32 (i 1).val
  let c2_i32_2400 : BitVec 32 := 2#32
  let v4027 : BitVec 32 := Scalar.muli arg1 c2_i32_2400
  let c1_i32_2401 : BitVec 32 := 1#32
  let v4028 : BitVec 32 := Scalar.addi v4027 c1_i32_2401
  let c256_i32_2402 : BitVec 32 := 256#32
  let v4029 : BitVec 32 := Scalar.muli v4028 c256_i32_2402
  let c3_i32_2403 : BitVec 32 := 3#32
  let v4030 : BitVec 32 := Scalar.addi v4029 c3_i32_2403
  let v4032 : Index := Scalar.indexCast v4030
  ![0, 0, v4032.toNat]
def k0_mult521 (v4033 : BitVec 32) : BitVec 32 :=
  v4033

def k0_mult522 (i : grid0.Coords) : BitVec 32 :=
  let arg1 : BitVec 32 := BitVec.ofNat 32 (i 1).val
  let c2_i32_2400 : BitVec 32 := 2#32
  let v4027 : BitVec 32 := Scalar.muli arg1 c2_i32_2400
  let c1_i32_2401 : BitVec 32 := 1#32
  let v4028 : BitVec 32 := Scalar.addi v4027 c1_i32_2401
  let c256_i32_2402 : BitVec 32 := 256#32
  let v4029 : BitVec 32 := Scalar.muli v4028 c256_i32_2402
  let c3_i32_2403 : BitVec 32 := 3#32
  let v4030 : BitVec 32 := Scalar.addi v4029 c3_i32_2403
  let c8_i32_2407 : BitVec 32 := 8#32
  let v4035 : BitVec 32 := Scalar.muli v4030 c8_i32_2407
  v4035
def k0_off1059 (i : grid0.Coords) : Fin 1 → Nat :=
  let c1_i32_2404 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4031 : BitVec 32 := Scalar.subi c1_i32_2404 v9
  ![v4031.toNat]
def k0_off1060 (i : grid0.Coords) : Fin 3 → Nat :=
  let c1_i32_2404 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4031 : BitVec 32 := Scalar.subi c1_i32_2404 v9
  let arg1 : BitVec 32 := BitVec.ofNat 32 (i 1).val
  let c2_i32_2400 : BitVec 32 := 2#32
  let v4027 : BitVec 32 := Scalar.muli arg1 c2_i32_2400
  let c1_i32_2401 : BitVec 32 := 1#32
  let v4028 : BitVec 32 := Scalar.addi v4027 c1_i32_2401
  let c256_i32_2402 : BitVec 32 := 256#32
  let v4029 : BitVec 32 := Scalar.muli v4028 c256_i32_2402
  let c3_i32_2403 : BitVec 32 := 3#32
  let v4030 : BitVec 32 := Scalar.addi v4029 c3_i32_2403
  let c8_i32_2407 : BitVec 32 := 8#32
  let v4035 : BitVec 32 := Scalar.muli v4030 c8_i32_2407
  let v4036 : BitVec 32 := v4035
  let c0_i32_2408 : BitVec 32 := 0#32
  ![v4031.toNat, v4036.toNat, 0]
def k0_off1061 (v4033 : BitVec 32) : Fin 2 → Nat :=
  let v4034 : BitVec 32 := v4033
  let c0_i32_2409 : BitVec 32 := 0#32
  ![v4034.toNat, 0]

def k0_chk261 (i : grid0.Coords) (v4033 : BitVec 32) : Prop :=
  (∀ (k0_h2 : k0_cond2 i = 1#1), 8 ∣ (k0_mult521 v4033).toNat) ∧
  (∀ (k0_h2 : k0_cond2 i = 1#1), ∀ a, (k0_off1061 v4033) a + S8x128.size a ≤ S131072x128.size a)
theorem k0_mult521_dvd : ∀ (i : grid0.Coords) (v4033 : BitVec 32) (k0_hw261 : k0_chk261 i v4033), ∀ (k0_h2 : k0_cond2 i = 1#1), 8 ∣ (k0_mult521 v4033).toNat := fun i v4033 k0_hw261 k0_h2 => k0_hw261.1 k0_h2
theorem k0_off1061_inb : ∀ (i : grid0.Coords) (v4033 : BitVec 32) (k0_hw261 : k0_chk261 i v4033), ∀ (k0_h2 : k0_cond2 i = 1#1), ∀ a, (k0_off1061 v4033) a + S8x128.size a ≤ S131072x128.size a := fun i v4033 k0_hw261 k0_h2 => k0_hw261.2 k0_h2

def k0_off1062 (i : grid0.Coords) : Fin 3 → Nat :=
  let c0_2415 : Index := 0#32
  let c0_2416 : Index := 0#32
  let arg1 : BitVec 32 := BitVec.ofNat 32 (i 1).val
  let c2_i32_2410 : BitVec 32 := 2#32
  let v4042 : BitVec 32 := Scalar.muli arg1 c2_i32_2410
  let c1_i32_2411 : BitVec 32 := 1#32
  let v4043 : BitVec 32 := Scalar.addi v4042 c1_i32_2411
  let c256_i32_2412 : BitVec 32 := 256#32
  let v4044 : BitVec 32 := Scalar.muli v4043 c256_i32_2412
  let c4_i32_2413 : BitVec 32 := 4#32
  let v4045 : BitVec 32 := Scalar.addi v4044 c4_i32_2413
  let v4047 : Index := Scalar.indexCast v4045
  ![0, 0, v4047.toNat]
def k0_mult523 (v4048 : BitVec 32) : BitVec 32 :=
  v4048

def k0_mult524 (i : grid0.Coords) : BitVec 32 :=
  let arg1 : BitVec 32 := BitVec.ofNat 32 (i 1).val
  let c2_i32_2410 : BitVec 32 := 2#32
  let v4042 : BitVec 32 := Scalar.muli arg1 c2_i32_2410
  let c1_i32_2411 : BitVec 32 := 1#32
  let v4043 : BitVec 32 := Scalar.addi v4042 c1_i32_2411
  let c256_i32_2412 : BitVec 32 := 256#32
  let v4044 : BitVec 32 := Scalar.muli v4043 c256_i32_2412
  let c4_i32_2413 : BitVec 32 := 4#32
  let v4045 : BitVec 32 := Scalar.addi v4044 c4_i32_2413
  let c8_i32_2417 : BitVec 32 := 8#32
  let v4050 : BitVec 32 := Scalar.muli v4045 c8_i32_2417
  v4050
def k0_off1063 (i : grid0.Coords) : Fin 1 → Nat :=
  let c1_i32_2414 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4046 : BitVec 32 := Scalar.subi c1_i32_2414 v9
  ![v4046.toNat]
def k0_off1064 (i : grid0.Coords) : Fin 3 → Nat :=
  let c1_i32_2414 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4046 : BitVec 32 := Scalar.subi c1_i32_2414 v9
  let arg1 : BitVec 32 := BitVec.ofNat 32 (i 1).val
  let c2_i32_2410 : BitVec 32 := 2#32
  let v4042 : BitVec 32 := Scalar.muli arg1 c2_i32_2410
  let c1_i32_2411 : BitVec 32 := 1#32
  let v4043 : BitVec 32 := Scalar.addi v4042 c1_i32_2411
  let c256_i32_2412 : BitVec 32 := 256#32
  let v4044 : BitVec 32 := Scalar.muli v4043 c256_i32_2412
  let c4_i32_2413 : BitVec 32 := 4#32
  let v4045 : BitVec 32 := Scalar.addi v4044 c4_i32_2413
  let c8_i32_2417 : BitVec 32 := 8#32
  let v4050 : BitVec 32 := Scalar.muli v4045 c8_i32_2417
  let v4051 : BitVec 32 := v4050
  let c0_i32_2418 : BitVec 32 := 0#32
  ![v4046.toNat, v4051.toNat, 0]
def k0_off1065 (v4048 : BitVec 32) : Fin 2 → Nat :=
  let v4049 : BitVec 32 := v4048
  let c0_i32_2419 : BitVec 32 := 0#32
  ![v4049.toNat, 0]

def k0_chk262 (i : grid0.Coords) (v4048 : BitVec 32) : Prop :=
  (∀ (k0_h2 : k0_cond2 i = 1#1), 8 ∣ (k0_mult523 v4048).toNat) ∧
  (∀ (k0_h2 : k0_cond2 i = 1#1), ∀ a, (k0_off1065 v4048) a + S8x128.size a ≤ S131072x128.size a)
theorem k0_mult523_dvd : ∀ (i : grid0.Coords) (v4048 : BitVec 32) (k0_hw262 : k0_chk262 i v4048), ∀ (k0_h2 : k0_cond2 i = 1#1), 8 ∣ (k0_mult523 v4048).toNat := fun i v4048 k0_hw262 k0_h2 => k0_hw262.1 k0_h2
theorem k0_off1065_inb : ∀ (i : grid0.Coords) (v4048 : BitVec 32) (k0_hw262 : k0_chk262 i v4048), ∀ (k0_h2 : k0_cond2 i = 1#1), ∀ a, (k0_off1065 v4048) a + S8x128.size a ≤ S131072x128.size a := fun i v4048 k0_hw262 k0_h2 => k0_hw262.2 k0_h2

def k0_off1066 (i : grid0.Coords) : Fin 3 → Nat :=
  let c0_2425 : Index := 0#32
  let c0_2426 : Index := 0#32
  let arg1 : BitVec 32 := BitVec.ofNat 32 (i 1).val
  let c2_i32_2420 : BitVec 32 := 2#32
  let v4057 : BitVec 32 := Scalar.muli arg1 c2_i32_2420
  let c1_i32_2421 : BitVec 32 := 1#32
  let v4058 : BitVec 32 := Scalar.addi v4057 c1_i32_2421
  let c256_i32_2422 : BitVec 32 := 256#32
  let v4059 : BitVec 32 := Scalar.muli v4058 c256_i32_2422
  let c5_i32_2423 : BitVec 32 := 5#32
  let v4060 : BitVec 32 := Scalar.addi v4059 c5_i32_2423
  let v4062 : Index := Scalar.indexCast v4060
  ![0, 0, v4062.toNat]
def k0_mult525 (v4063 : BitVec 32) : BitVec 32 :=
  v4063

def k0_mult526 (i : grid0.Coords) : BitVec 32 :=
  let arg1 : BitVec 32 := BitVec.ofNat 32 (i 1).val
  let c2_i32_2420 : BitVec 32 := 2#32
  let v4057 : BitVec 32 := Scalar.muli arg1 c2_i32_2420
  let c1_i32_2421 : BitVec 32 := 1#32
  let v4058 : BitVec 32 := Scalar.addi v4057 c1_i32_2421
  let c256_i32_2422 : BitVec 32 := 256#32
  let v4059 : BitVec 32 := Scalar.muli v4058 c256_i32_2422
  let c5_i32_2423 : BitVec 32 := 5#32
  let v4060 : BitVec 32 := Scalar.addi v4059 c5_i32_2423
  let c8_i32_2427 : BitVec 32 := 8#32
  let v4065 : BitVec 32 := Scalar.muli v4060 c8_i32_2427
  v4065
def k0_off1067 (i : grid0.Coords) : Fin 1 → Nat :=
  let c1_i32_2424 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4061 : BitVec 32 := Scalar.subi c1_i32_2424 v9
  ![v4061.toNat]
def k0_off1068 (i : grid0.Coords) : Fin 3 → Nat :=
  let c1_i32_2424 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4061 : BitVec 32 := Scalar.subi c1_i32_2424 v9
  let arg1 : BitVec 32 := BitVec.ofNat 32 (i 1).val
  let c2_i32_2420 : BitVec 32 := 2#32
  let v4057 : BitVec 32 := Scalar.muli arg1 c2_i32_2420
  let c1_i32_2421 : BitVec 32 := 1#32
  let v4058 : BitVec 32 := Scalar.addi v4057 c1_i32_2421
  let c256_i32_2422 : BitVec 32 := 256#32
  let v4059 : BitVec 32 := Scalar.muli v4058 c256_i32_2422
  let c5_i32_2423 : BitVec 32 := 5#32
  let v4060 : BitVec 32 := Scalar.addi v4059 c5_i32_2423
  let c8_i32_2427 : BitVec 32 := 8#32
  let v4065 : BitVec 32 := Scalar.muli v4060 c8_i32_2427
  let v4066 : BitVec 32 := v4065
  let c0_i32_2428 : BitVec 32 := 0#32
  ![v4061.toNat, v4066.toNat, 0]
def k0_off1069 (v4063 : BitVec 32) : Fin 2 → Nat :=
  let v4064 : BitVec 32 := v4063
  let c0_i32_2429 : BitVec 32 := 0#32
  ![v4064.toNat, 0]

def k0_chk263 (i : grid0.Coords) (v4063 : BitVec 32) : Prop :=
  (∀ (k0_h2 : k0_cond2 i = 1#1), 8 ∣ (k0_mult525 v4063).toNat) ∧
  (∀ (k0_h2 : k0_cond2 i = 1#1), ∀ a, (k0_off1069 v4063) a + S8x128.size a ≤ S131072x128.size a)
theorem k0_mult525_dvd : ∀ (i : grid0.Coords) (v4063 : BitVec 32) (k0_hw263 : k0_chk263 i v4063), ∀ (k0_h2 : k0_cond2 i = 1#1), 8 ∣ (k0_mult525 v4063).toNat := fun i v4063 k0_hw263 k0_h2 => k0_hw263.1 k0_h2
theorem k0_off1069_inb : ∀ (i : grid0.Coords) (v4063 : BitVec 32) (k0_hw263 : k0_chk263 i v4063), ∀ (k0_h2 : k0_cond2 i = 1#1), ∀ a, (k0_off1069 v4063) a + S8x128.size a ≤ S131072x128.size a := fun i v4063 k0_hw263 k0_h2 => k0_hw263.2 k0_h2

def k0_off1070 (i : grid0.Coords) : Fin 3 → Nat :=
  let c0_2435 : Index := 0#32
  let c0_2436 : Index := 0#32
  let arg1 : BitVec 32 := BitVec.ofNat 32 (i 1).val
  let c2_i32_2430 : BitVec 32 := 2#32
  let v4072 : BitVec 32 := Scalar.muli arg1 c2_i32_2430
  let c1_i32_2431 : BitVec 32 := 1#32
  let v4073 : BitVec 32 := Scalar.addi v4072 c1_i32_2431
  let c256_i32_2432 : BitVec 32 := 256#32
  let v4074 : BitVec 32 := Scalar.muli v4073 c256_i32_2432
  let c6_i32_2433 : BitVec 32 := 6#32
  let v4075 : BitVec 32 := Scalar.addi v4074 c6_i32_2433
  let v4077 : Index := Scalar.indexCast v4075
  ![0, 0, v4077.toNat]
def k0_mult527 (v4078 : BitVec 32) : BitVec 32 :=
  v4078

def k0_mult528 (i : grid0.Coords) : BitVec 32 :=
  let arg1 : BitVec 32 := BitVec.ofNat 32 (i 1).val
  let c2_i32_2430 : BitVec 32 := 2#32
  let v4072 : BitVec 32 := Scalar.muli arg1 c2_i32_2430
  let c1_i32_2431 : BitVec 32 := 1#32
  let v4073 : BitVec 32 := Scalar.addi v4072 c1_i32_2431
  let c256_i32_2432 : BitVec 32 := 256#32
  let v4074 : BitVec 32 := Scalar.muli v4073 c256_i32_2432
  let c6_i32_2433 : BitVec 32 := 6#32
  let v4075 : BitVec 32 := Scalar.addi v4074 c6_i32_2433
  let c8_i32_2437 : BitVec 32 := 8#32
  let v4080 : BitVec 32 := Scalar.muli v4075 c8_i32_2437
  v4080
def k0_off1071 (i : grid0.Coords) : Fin 1 → Nat :=
  let c1_i32_2434 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4076 : BitVec 32 := Scalar.subi c1_i32_2434 v9
  ![v4076.toNat]
def k0_off1072 (i : grid0.Coords) : Fin 3 → Nat :=
  let c1_i32_2434 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4076 : BitVec 32 := Scalar.subi c1_i32_2434 v9
  let arg1 : BitVec 32 := BitVec.ofNat 32 (i 1).val
  let c2_i32_2430 : BitVec 32 := 2#32
  let v4072 : BitVec 32 := Scalar.muli arg1 c2_i32_2430
  let c1_i32_2431 : BitVec 32 := 1#32
  let v4073 : BitVec 32 := Scalar.addi v4072 c1_i32_2431
  let c256_i32_2432 : BitVec 32 := 256#32
  let v4074 : BitVec 32 := Scalar.muli v4073 c256_i32_2432
  let c6_i32_2433 : BitVec 32 := 6#32
  let v4075 : BitVec 32 := Scalar.addi v4074 c6_i32_2433
  let c8_i32_2437 : BitVec 32 := 8#32
  let v4080 : BitVec 32 := Scalar.muli v4075 c8_i32_2437
  let v4081 : BitVec 32 := v4080
  let c0_i32_2438 : BitVec 32 := 0#32
  ![v4076.toNat, v4081.toNat, 0]
def k0_off1073 (v4078 : BitVec 32) : Fin 2 → Nat :=
  let v4079 : BitVec 32 := v4078
  let c0_i32_2439 : BitVec 32 := 0#32
  ![v4079.toNat, 0]

def k0_chk264 (i : grid0.Coords) (v4078 : BitVec 32) : Prop :=
  (∀ (k0_h2 : k0_cond2 i = 1#1), 8 ∣ (k0_mult527 v4078).toNat) ∧
  (∀ (k0_h2 : k0_cond2 i = 1#1), ∀ a, (k0_off1073 v4078) a + S8x128.size a ≤ S131072x128.size a)
theorem k0_mult527_dvd : ∀ (i : grid0.Coords) (v4078 : BitVec 32) (k0_hw264 : k0_chk264 i v4078), ∀ (k0_h2 : k0_cond2 i = 1#1), 8 ∣ (k0_mult527 v4078).toNat := fun i v4078 k0_hw264 k0_h2 => k0_hw264.1 k0_h2
theorem k0_off1073_inb : ∀ (i : grid0.Coords) (v4078 : BitVec 32) (k0_hw264 : k0_chk264 i v4078), ∀ (k0_h2 : k0_cond2 i = 1#1), ∀ a, (k0_off1073 v4078) a + S8x128.size a ≤ S131072x128.size a := fun i v4078 k0_hw264 k0_h2 => k0_hw264.2 k0_h2

def k0_off1074 (i : grid0.Coords) : Fin 3 → Nat :=
  let c0_2445 : Index := 0#32
  let c0_2446 : Index := 0#32
  let arg1 : BitVec 32 := BitVec.ofNat 32 (i 1).val
  let c2_i32_2440 : BitVec 32 := 2#32
  let v4087 : BitVec 32 := Scalar.muli arg1 c2_i32_2440
  let c1_i32_2441 : BitVec 32 := 1#32
  let v4088 : BitVec 32 := Scalar.addi v4087 c1_i32_2441
  let c256_i32_2442 : BitVec 32 := 256#32
  let v4089 : BitVec 32 := Scalar.muli v4088 c256_i32_2442
  let c7_i32_2443 : BitVec 32 := 7#32
  let v4090 : BitVec 32 := Scalar.addi v4089 c7_i32_2443
  let v4092 : Index := Scalar.indexCast v4090
  ![0, 0, v4092.toNat]
def k0_mult529 (v4093 : BitVec 32) : BitVec 32 :=
  v4093

def k0_mult530 (i : grid0.Coords) : BitVec 32 :=
  let arg1 : BitVec 32 := BitVec.ofNat 32 (i 1).val
  let c2_i32_2440 : BitVec 32 := 2#32
  let v4087 : BitVec 32 := Scalar.muli arg1 c2_i32_2440
  let c1_i32_2441 : BitVec 32 := 1#32
  let v4088 : BitVec 32 := Scalar.addi v4087 c1_i32_2441
  let c256_i32_2442 : BitVec 32 := 256#32
  let v4089 : BitVec 32 := Scalar.muli v4088 c256_i32_2442
  let c7_i32_2443 : BitVec 32 := 7#32
  let v4090 : BitVec 32 := Scalar.addi v4089 c7_i32_2443
  let c8_i32_2447 : BitVec 32 := 8#32
  let v4095 : BitVec 32 := Scalar.muli v4090 c8_i32_2447
  v4095
def k0_off1075 (i : grid0.Coords) : Fin 1 → Nat :=
  let c1_i32_2444 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4091 : BitVec 32 := Scalar.subi c1_i32_2444 v9
  ![v4091.toNat]
def k0_off1076 (i : grid0.Coords) : Fin 3 → Nat :=
  let c1_i32_2444 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4091 : BitVec 32 := Scalar.subi c1_i32_2444 v9
  let arg1 : BitVec 32 := BitVec.ofNat 32 (i 1).val
  let c2_i32_2440 : BitVec 32 := 2#32
  let v4087 : BitVec 32 := Scalar.muli arg1 c2_i32_2440
  let c1_i32_2441 : BitVec 32 := 1#32
  let v4088 : BitVec 32 := Scalar.addi v4087 c1_i32_2441
  let c256_i32_2442 : BitVec 32 := 256#32
  let v4089 : BitVec 32 := Scalar.muli v4088 c256_i32_2442
  let c7_i32_2443 : BitVec 32 := 7#32
  let v4090 : BitVec 32 := Scalar.addi v4089 c7_i32_2443
  let c8_i32_2447 : BitVec 32 := 8#32
  let v4095 : BitVec 32 := Scalar.muli v4090 c8_i32_2447
  let v4096 : BitVec 32 := v4095
  let c0_i32_2448 : BitVec 32 := 0#32
  ![v4091.toNat, v4096.toNat, 0]
def k0_off1077 (v4093 : BitVec 32) : Fin 2 → Nat :=
  let v4094 : BitVec 32 := v4093
  let c0_i32_2449 : BitVec 32 := 0#32
  ![v4094.toNat, 0]

def k0_chk265 (i : grid0.Coords) (v4093 : BitVec 32) : Prop :=
  (∀ (k0_h2 : k0_cond2 i = 1#1), 8 ∣ (k0_mult529 v4093).toNat) ∧
  (∀ (k0_h2 : k0_cond2 i = 1#1), ∀ a, (k0_off1077 v4093) a + S8x128.size a ≤ S131072x128.size a)
theorem k0_mult529_dvd : ∀ (i : grid0.Coords) (v4093 : BitVec 32) (k0_hw265 : k0_chk265 i v4093), ∀ (k0_h2 : k0_cond2 i = 1#1), 8 ∣ (k0_mult529 v4093).toNat := fun i v4093 k0_hw265 k0_h2 => k0_hw265.1 k0_h2
theorem k0_off1077_inb : ∀ (i : grid0.Coords) (v4093 : BitVec 32) (k0_hw265 : k0_chk265 i v4093), ∀ (k0_h2 : k0_cond2 i = 1#1), ∀ a, (k0_off1077 v4093) a + S8x128.size a ≤ S131072x128.size a := fun i v4093 k0_hw265 k0_h2 => k0_hw265.2 k0_h2

def k0_off1078 (i : grid0.Coords) : Fin 3 → Nat :=
  let c0_2455 : Index := 0#32
  let c0_2456 : Index := 0#32
  let arg1 : BitVec 32 := BitVec.ofNat 32 (i 1).val
  let c2_i32_2450 : BitVec 32 := 2#32
  let v4102 : BitVec 32 := Scalar.muli arg1 c2_i32_2450
  let c1_i32_2451 : BitVec 32 := 1#32
  let v4103 : BitVec 32 := Scalar.addi v4102 c1_i32_2451
  let c256_i32_2452 : BitVec 32 := 256#32
  let v4104 : BitVec 32 := Scalar.muli v4103 c256_i32_2452
  let c8_i32_2453 : BitVec 32 := 8#32
  let v4105 : BitVec 32 := Scalar.addi v4104 c8_i32_2453
  let v4107 : Index := Scalar.indexCast v4105
  ![0, 0, v4107.toNat]
def k0_mult531 (v4108 : BitVec 32) : BitVec 32 :=
  v4108

def k0_mult532 (i : grid0.Coords) : BitVec 32 :=
  let arg1 : BitVec 32 := BitVec.ofNat 32 (i 1).val
  let c2_i32_2450 : BitVec 32 := 2#32
  let v4102 : BitVec 32 := Scalar.muli arg1 c2_i32_2450
  let c1_i32_2451 : BitVec 32 := 1#32
  let v4103 : BitVec 32 := Scalar.addi v4102 c1_i32_2451
  let c256_i32_2452 : BitVec 32 := 256#32
  let v4104 : BitVec 32 := Scalar.muli v4103 c256_i32_2452
  let c8_i32_2453 : BitVec 32 := 8#32
  let v4105 : BitVec 32 := Scalar.addi v4104 c8_i32_2453
  let c8_i32_2457 : BitVec 32 := 8#32
  let v4110 : BitVec 32 := Scalar.muli v4105 c8_i32_2457
  v4110
def k0_off1079 (i : grid0.Coords) : Fin 1 → Nat :=
  let c1_i32_2454 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4106 : BitVec 32 := Scalar.subi c1_i32_2454 v9
  ![v4106.toNat]
def k0_off1080 (i : grid0.Coords) : Fin 3 → Nat :=
  let c1_i32_2454 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4106 : BitVec 32 := Scalar.subi c1_i32_2454 v9
  let arg1 : BitVec 32 := BitVec.ofNat 32 (i 1).val
  let c2_i32_2450 : BitVec 32 := 2#32
  let v4102 : BitVec 32 := Scalar.muli arg1 c2_i32_2450
  let c1_i32_2451 : BitVec 32 := 1#32
  let v4103 : BitVec 32 := Scalar.addi v4102 c1_i32_2451
  let c256_i32_2452 : BitVec 32 := 256#32
  let v4104 : BitVec 32 := Scalar.muli v4103 c256_i32_2452
  let c8_i32_2453 : BitVec 32 := 8#32
  let v4105 : BitVec 32 := Scalar.addi v4104 c8_i32_2453
  let c8_i32_2457 : BitVec 32 := 8#32
  let v4110 : BitVec 32 := Scalar.muli v4105 c8_i32_2457
  let v4111 : BitVec 32 := v4110
  let c0_i32_2458 : BitVec 32 := 0#32
  ![v4106.toNat, v4111.toNat, 0]
def k0_off1081 (v4108 : BitVec 32) : Fin 2 → Nat :=
  let v4109 : BitVec 32 := v4108
  let c0_i32_2459 : BitVec 32 := 0#32
  ![v4109.toNat, 0]

def k0_chk266 (i : grid0.Coords) (v4108 : BitVec 32) : Prop :=
  (∀ (k0_h2 : k0_cond2 i = 1#1), 8 ∣ (k0_mult531 v4108).toNat) ∧
  (∀ (k0_h2 : k0_cond2 i = 1#1), ∀ a, (k0_off1081 v4108) a + S8x128.size a ≤ S131072x128.size a)
theorem k0_mult531_dvd : ∀ (i : grid0.Coords) (v4108 : BitVec 32) (k0_hw266 : k0_chk266 i v4108), ∀ (k0_h2 : k0_cond2 i = 1#1), 8 ∣ (k0_mult531 v4108).toNat := fun i v4108 k0_hw266 k0_h2 => k0_hw266.1 k0_h2
theorem k0_off1081_inb : ∀ (i : grid0.Coords) (v4108 : BitVec 32) (k0_hw266 : k0_chk266 i v4108), ∀ (k0_h2 : k0_cond2 i = 1#1), ∀ a, (k0_off1081 v4108) a + S8x128.size a ≤ S131072x128.size a := fun i v4108 k0_hw266 k0_h2 => k0_hw266.2 k0_h2

def k0_off1082 (i : grid0.Coords) : Fin 3 → Nat :=
  let c0_2465 : Index := 0#32
  let c0_2466 : Index := 0#32
  let arg1 : BitVec 32 := BitVec.ofNat 32 (i 1).val
  let c2_i32_2460 : BitVec 32 := 2#32
  let v4117 : BitVec 32 := Scalar.muli arg1 c2_i32_2460
  let c1_i32_2461 : BitVec 32 := 1#32
  let v4118 : BitVec 32 := Scalar.addi v4117 c1_i32_2461
  let c256_i32_2462 : BitVec 32 := 256#32
  let v4119 : BitVec 32 := Scalar.muli v4118 c256_i32_2462
  let c9_i32_2463 : BitVec 32 := 9#32
  let v4120 : BitVec 32 := Scalar.addi v4119 c9_i32_2463
  let v4122 : Index := Scalar.indexCast v4120
  ![0, 0, v4122.toNat]
def k0_mult533 (v4123 : BitVec 32) : BitVec 32 :=
  v4123

def k0_mult534 (i : grid0.Coords) : BitVec 32 :=
  let arg1 : BitVec 32 := BitVec.ofNat 32 (i 1).val
  let c2_i32_2460 : BitVec 32 := 2#32
  let v4117 : BitVec 32 := Scalar.muli arg1 c2_i32_2460
  let c1_i32_2461 : BitVec 32 := 1#32
  let v4118 : BitVec 32 := Scalar.addi v4117 c1_i32_2461
  let c256_i32_2462 : BitVec 32 := 256#32
  let v4119 : BitVec 32 := Scalar.muli v4118 c256_i32_2462
  let c9_i32_2463 : BitVec 32 := 9#32
  let v4120 : BitVec 32 := Scalar.addi v4119 c9_i32_2463
  let c8_i32_2467 : BitVec 32 := 8#32
  let v4125 : BitVec 32 := Scalar.muli v4120 c8_i32_2467
  v4125
def k0_off1083 (i : grid0.Coords) : Fin 1 → Nat :=
  let c1_i32_2464 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4121 : BitVec 32 := Scalar.subi c1_i32_2464 v9
  ![v4121.toNat]
def k0_off1084 (i : grid0.Coords) : Fin 3 → Nat :=
  let c1_i32_2464 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4121 : BitVec 32 := Scalar.subi c1_i32_2464 v9
  let arg1 : BitVec 32 := BitVec.ofNat 32 (i 1).val
  let c2_i32_2460 : BitVec 32 := 2#32
  let v4117 : BitVec 32 := Scalar.muli arg1 c2_i32_2460
  let c1_i32_2461 : BitVec 32 := 1#32
  let v4118 : BitVec 32 := Scalar.addi v4117 c1_i32_2461
  let c256_i32_2462 : BitVec 32 := 256#32
  let v4119 : BitVec 32 := Scalar.muli v4118 c256_i32_2462
  let c9_i32_2463 : BitVec 32 := 9#32
  let v4120 : BitVec 32 := Scalar.addi v4119 c9_i32_2463
  let c8_i32_2467 : BitVec 32 := 8#32
  let v4125 : BitVec 32 := Scalar.muli v4120 c8_i32_2467
  let v4126 : BitVec 32 := v4125
  let c0_i32_2468 : BitVec 32 := 0#32
  ![v4121.toNat, v4126.toNat, 0]
def k0_off1085 (v4123 : BitVec 32) : Fin 2 → Nat :=
  let v4124 : BitVec 32 := v4123
  let c0_i32_2469 : BitVec 32 := 0#32
  ![v4124.toNat, 0]

def k0_chk267 (i : grid0.Coords) (v4123 : BitVec 32) : Prop :=
  (∀ (k0_h2 : k0_cond2 i = 1#1), 8 ∣ (k0_mult533 v4123).toNat) ∧
  (∀ (k0_h2 : k0_cond2 i = 1#1), ∀ a, (k0_off1085 v4123) a + S8x128.size a ≤ S131072x128.size a)
theorem k0_mult533_dvd : ∀ (i : grid0.Coords) (v4123 : BitVec 32) (k0_hw267 : k0_chk267 i v4123), ∀ (k0_h2 : k0_cond2 i = 1#1), 8 ∣ (k0_mult533 v4123).toNat := fun i v4123 k0_hw267 k0_h2 => k0_hw267.1 k0_h2
theorem k0_off1085_inb : ∀ (i : grid0.Coords) (v4123 : BitVec 32) (k0_hw267 : k0_chk267 i v4123), ∀ (k0_h2 : k0_cond2 i = 1#1), ∀ a, (k0_off1085 v4123) a + S8x128.size a ≤ S131072x128.size a := fun i v4123 k0_hw267 k0_h2 => k0_hw267.2 k0_h2

def k0_off1086 (i : grid0.Coords) : Fin 3 → Nat :=
  let c0_2475 : Index := 0#32
  let c0_2476 : Index := 0#32
  let arg1 : BitVec 32 := BitVec.ofNat 32 (i 1).val
  let c2_i32_2470 : BitVec 32 := 2#32
  let v4132 : BitVec 32 := Scalar.muli arg1 c2_i32_2470
  let c1_i32_2471 : BitVec 32 := 1#32
  let v4133 : BitVec 32 := Scalar.addi v4132 c1_i32_2471
  let c256_i32_2472 : BitVec 32 := 256#32
  let v4134 : BitVec 32 := Scalar.muli v4133 c256_i32_2472
  let c10_i32_2473 : BitVec 32 := 10#32
  let v4135 : BitVec 32 := Scalar.addi v4134 c10_i32_2473
  let v4137 : Index := Scalar.indexCast v4135
  ![0, 0, v4137.toNat]
def k0_mult535 (v4138 : BitVec 32) : BitVec 32 :=
  v4138

def k0_mult536 (i : grid0.Coords) : BitVec 32 :=
  let arg1 : BitVec 32 := BitVec.ofNat 32 (i 1).val
  let c2_i32_2470 : BitVec 32 := 2#32
  let v4132 : BitVec 32 := Scalar.muli arg1 c2_i32_2470
  let c1_i32_2471 : BitVec 32 := 1#32
  let v4133 : BitVec 32 := Scalar.addi v4132 c1_i32_2471
  let c256_i32_2472 : BitVec 32 := 256#32
  let v4134 : BitVec 32 := Scalar.muli v4133 c256_i32_2472
  let c10_i32_2473 : BitVec 32 := 10#32
  let v4135 : BitVec 32 := Scalar.addi v4134 c10_i32_2473
  let c8_i32_2477 : BitVec 32 := 8#32
  let v4140 : BitVec 32 := Scalar.muli v4135 c8_i32_2477
  v4140
def k0_off1087 (i : grid0.Coords) : Fin 1 → Nat :=
  let c1_i32_2474 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4136 : BitVec 32 := Scalar.subi c1_i32_2474 v9
  ![v4136.toNat]
def k0_off1088 (i : grid0.Coords) : Fin 3 → Nat :=
  let c1_i32_2474 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4136 : BitVec 32 := Scalar.subi c1_i32_2474 v9
  let arg1 : BitVec 32 := BitVec.ofNat 32 (i 1).val
  let c2_i32_2470 : BitVec 32 := 2#32
  let v4132 : BitVec 32 := Scalar.muli arg1 c2_i32_2470
  let c1_i32_2471 : BitVec 32 := 1#32
  let v4133 : BitVec 32 := Scalar.addi v4132 c1_i32_2471
  let c256_i32_2472 : BitVec 32 := 256#32
  let v4134 : BitVec 32 := Scalar.muli v4133 c256_i32_2472
  let c10_i32_2473 : BitVec 32 := 10#32
  let v4135 : BitVec 32 := Scalar.addi v4134 c10_i32_2473
  let c8_i32_2477 : BitVec 32 := 8#32
  let v4140 : BitVec 32 := Scalar.muli v4135 c8_i32_2477
  let v4141 : BitVec 32 := v4140
  let c0_i32_2478 : BitVec 32 := 0#32
  ![v4136.toNat, v4141.toNat, 0]
def k0_off1089 (v4138 : BitVec 32) : Fin 2 → Nat :=
  let v4139 : BitVec 32 := v4138
  let c0_i32_2479 : BitVec 32 := 0#32
  ![v4139.toNat, 0]

def k0_chk268 (i : grid0.Coords) (v4138 : BitVec 32) : Prop :=
  (∀ (k0_h2 : k0_cond2 i = 1#1), 8 ∣ (k0_mult535 v4138).toNat) ∧
  (∀ (k0_h2 : k0_cond2 i = 1#1), ∀ a, (k0_off1089 v4138) a + S8x128.size a ≤ S131072x128.size a)
theorem k0_mult535_dvd : ∀ (i : grid0.Coords) (v4138 : BitVec 32) (k0_hw268 : k0_chk268 i v4138), ∀ (k0_h2 : k0_cond2 i = 1#1), 8 ∣ (k0_mult535 v4138).toNat := fun i v4138 k0_hw268 k0_h2 => k0_hw268.1 k0_h2
theorem k0_off1089_inb : ∀ (i : grid0.Coords) (v4138 : BitVec 32) (k0_hw268 : k0_chk268 i v4138), ∀ (k0_h2 : k0_cond2 i = 1#1), ∀ a, (k0_off1089 v4138) a + S8x128.size a ≤ S131072x128.size a := fun i v4138 k0_hw268 k0_h2 => k0_hw268.2 k0_h2

def k0_off1090 (i : grid0.Coords) : Fin 3 → Nat :=
  let c0_2485 : Index := 0#32
  let c0_2486 : Index := 0#32
  let arg1 : BitVec 32 := BitVec.ofNat 32 (i 1).val
  let c2_i32_2480 : BitVec 32 := 2#32
  let v4147 : BitVec 32 := Scalar.muli arg1 c2_i32_2480
  let c1_i32_2481 : BitVec 32 := 1#32
  let v4148 : BitVec 32 := Scalar.addi v4147 c1_i32_2481
  let c256_i32_2482 : BitVec 32 := 256#32
  let v4149 : BitVec 32 := Scalar.muli v4148 c256_i32_2482
  let c11_i32_2483 : BitVec 32 := 11#32
  let v4150 : BitVec 32 := Scalar.addi v4149 c11_i32_2483
  let v4152 : Index := Scalar.indexCast v4150
  ![0, 0, v4152.toNat]
def k0_mult537 (v4153 : BitVec 32) : BitVec 32 :=
  v4153

def k0_mult538 (i : grid0.Coords) : BitVec 32 :=
  let arg1 : BitVec 32 := BitVec.ofNat 32 (i 1).val
  let c2_i32_2480 : BitVec 32 := 2#32
  let v4147 : BitVec 32 := Scalar.muli arg1 c2_i32_2480
  let c1_i32_2481 : BitVec 32 := 1#32
  let v4148 : BitVec 32 := Scalar.addi v4147 c1_i32_2481
  let c256_i32_2482 : BitVec 32 := 256#32
  let v4149 : BitVec 32 := Scalar.muli v4148 c256_i32_2482
  let c11_i32_2483 : BitVec 32 := 11#32
  let v4150 : BitVec 32 := Scalar.addi v4149 c11_i32_2483
  let c8_i32_2487 : BitVec 32 := 8#32
  let v4155 : BitVec 32 := Scalar.muli v4150 c8_i32_2487
  v4155
def k0_off1091 (i : grid0.Coords) : Fin 1 → Nat :=
  let c1_i32_2484 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4151 : BitVec 32 := Scalar.subi c1_i32_2484 v9
  ![v4151.toNat]
def k0_off1092 (i : grid0.Coords) : Fin 3 → Nat :=
  let c1_i32_2484 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4151 : BitVec 32 := Scalar.subi c1_i32_2484 v9
  let arg1 : BitVec 32 := BitVec.ofNat 32 (i 1).val
  let c2_i32_2480 : BitVec 32 := 2#32
  let v4147 : BitVec 32 := Scalar.muli arg1 c2_i32_2480
  let c1_i32_2481 : BitVec 32 := 1#32
  let v4148 : BitVec 32 := Scalar.addi v4147 c1_i32_2481
  let c256_i32_2482 : BitVec 32 := 256#32
  let v4149 : BitVec 32 := Scalar.muli v4148 c256_i32_2482
  let c11_i32_2483 : BitVec 32 := 11#32
  let v4150 : BitVec 32 := Scalar.addi v4149 c11_i32_2483
  let c8_i32_2487 : BitVec 32 := 8#32
  let v4155 : BitVec 32 := Scalar.muli v4150 c8_i32_2487
  let v4156 : BitVec 32 := v4155
  let c0_i32_2488 : BitVec 32 := 0#32
  ![v4151.toNat, v4156.toNat, 0]
def k0_off1093 (v4153 : BitVec 32) : Fin 2 → Nat :=
  let v4154 : BitVec 32 := v4153
  let c0_i32_2489 : BitVec 32 := 0#32
  ![v4154.toNat, 0]

def k0_chk269 (i : grid0.Coords) (v4153 : BitVec 32) : Prop :=
  (∀ (k0_h2 : k0_cond2 i = 1#1), 8 ∣ (k0_mult537 v4153).toNat) ∧
  (∀ (k0_h2 : k0_cond2 i = 1#1), ∀ a, (k0_off1093 v4153) a + S8x128.size a ≤ S131072x128.size a)
theorem k0_mult537_dvd : ∀ (i : grid0.Coords) (v4153 : BitVec 32) (k0_hw269 : k0_chk269 i v4153), ∀ (k0_h2 : k0_cond2 i = 1#1), 8 ∣ (k0_mult537 v4153).toNat := fun i v4153 k0_hw269 k0_h2 => k0_hw269.1 k0_h2
theorem k0_off1093_inb : ∀ (i : grid0.Coords) (v4153 : BitVec 32) (k0_hw269 : k0_chk269 i v4153), ∀ (k0_h2 : k0_cond2 i = 1#1), ∀ a, (k0_off1093 v4153) a + S8x128.size a ≤ S131072x128.size a := fun i v4153 k0_hw269 k0_h2 => k0_hw269.2 k0_h2

def k0_off1094 (i : grid0.Coords) : Fin 3 → Nat :=
  let c0_2495 : Index := 0#32
  let c0_2496 : Index := 0#32
  let arg1 : BitVec 32 := BitVec.ofNat 32 (i 1).val
  let c2_i32_2490 : BitVec 32 := 2#32
  let v4162 : BitVec 32 := Scalar.muli arg1 c2_i32_2490
  let c1_i32_2491 : BitVec 32 := 1#32
  let v4163 : BitVec 32 := Scalar.addi v4162 c1_i32_2491
  let c256_i32_2492 : BitVec 32 := 256#32
  let v4164 : BitVec 32 := Scalar.muli v4163 c256_i32_2492
  let c12_i32_2493 : BitVec 32 := 12#32
  let v4165 : BitVec 32 := Scalar.addi v4164 c12_i32_2493
  let v4167 : Index := Scalar.indexCast v4165
  ![0, 0, v4167.toNat]
def k0_mult539 (v4168 : BitVec 32) : BitVec 32 :=
  v4168

def k0_mult540 (i : grid0.Coords) : BitVec 32 :=
  let arg1 : BitVec 32 := BitVec.ofNat 32 (i 1).val
  let c2_i32_2490 : BitVec 32 := 2#32
  let v4162 : BitVec 32 := Scalar.muli arg1 c2_i32_2490
  let c1_i32_2491 : BitVec 32 := 1#32
  let v4163 : BitVec 32 := Scalar.addi v4162 c1_i32_2491
  let c256_i32_2492 : BitVec 32 := 256#32
  let v4164 : BitVec 32 := Scalar.muli v4163 c256_i32_2492
  let c12_i32_2493 : BitVec 32 := 12#32
  let v4165 : BitVec 32 := Scalar.addi v4164 c12_i32_2493
  let c8_i32_2497 : BitVec 32 := 8#32
  let v4170 : BitVec 32 := Scalar.muli v4165 c8_i32_2497
  v4170
def k0_off1095 (i : grid0.Coords) : Fin 1 → Nat :=
  let c1_i32_2494 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4166 : BitVec 32 := Scalar.subi c1_i32_2494 v9
  ![v4166.toNat]
def k0_off1096 (i : grid0.Coords) : Fin 3 → Nat :=
  let c1_i32_2494 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4166 : BitVec 32 := Scalar.subi c1_i32_2494 v9
  let arg1 : BitVec 32 := BitVec.ofNat 32 (i 1).val
  let c2_i32_2490 : BitVec 32 := 2#32
  let v4162 : BitVec 32 := Scalar.muli arg1 c2_i32_2490
  let c1_i32_2491 : BitVec 32 := 1#32
  let v4163 : BitVec 32 := Scalar.addi v4162 c1_i32_2491
  let c256_i32_2492 : BitVec 32 := 256#32
  let v4164 : BitVec 32 := Scalar.muli v4163 c256_i32_2492
  let c12_i32_2493 : BitVec 32 := 12#32
  let v4165 : BitVec 32 := Scalar.addi v4164 c12_i32_2493
  let c8_i32_2497 : BitVec 32 := 8#32
  let v4170 : BitVec 32 := Scalar.muli v4165 c8_i32_2497
  let v4171 : BitVec 32 := v4170
  let c0_i32_2498 : BitVec 32 := 0#32
  ![v4166.toNat, v4171.toNat, 0]
def k0_off1097 (v4168 : BitVec 32) : Fin 2 → Nat :=
  let v4169 : BitVec 32 := v4168
  let c0_i32_2499 : BitVec 32 := 0#32
  ![v4169.toNat, 0]

def k0_chk270 (i : grid0.Coords) (v4168 : BitVec 32) : Prop :=
  (∀ (k0_h2 : k0_cond2 i = 1#1), 8 ∣ (k0_mult539 v4168).toNat) ∧
  (∀ (k0_h2 : k0_cond2 i = 1#1), ∀ a, (k0_off1097 v4168) a + S8x128.size a ≤ S131072x128.size a)
theorem k0_mult539_dvd : ∀ (i : grid0.Coords) (v4168 : BitVec 32) (k0_hw270 : k0_chk270 i v4168), ∀ (k0_h2 : k0_cond2 i = 1#1), 8 ∣ (k0_mult539 v4168).toNat := fun i v4168 k0_hw270 k0_h2 => k0_hw270.1 k0_h2
theorem k0_off1097_inb : ∀ (i : grid0.Coords) (v4168 : BitVec 32) (k0_hw270 : k0_chk270 i v4168), ∀ (k0_h2 : k0_cond2 i = 1#1), ∀ a, (k0_off1097 v4168) a + S8x128.size a ≤ S131072x128.size a := fun i v4168 k0_hw270 k0_h2 => k0_hw270.2 k0_h2

def k0_off1098 (i : grid0.Coords) : Fin 3 → Nat :=
  let c0_2505 : Index := 0#32
  let c0_2506 : Index := 0#32
  let arg1 : BitVec 32 := BitVec.ofNat 32 (i 1).val
  let c2_i32_2500 : BitVec 32 := 2#32
  let v4177 : BitVec 32 := Scalar.muli arg1 c2_i32_2500
  let c1_i32_2501 : BitVec 32 := 1#32
  let v4178 : BitVec 32 := Scalar.addi v4177 c1_i32_2501
  let c256_i32_2502 : BitVec 32 := 256#32
  let v4179 : BitVec 32 := Scalar.muli v4178 c256_i32_2502
  let c13_i32_2503 : BitVec 32 := 13#32
  let v4180 : BitVec 32 := Scalar.addi v4179 c13_i32_2503
  let v4182 : Index := Scalar.indexCast v4180
  ![0, 0, v4182.toNat]
def k0_mult541 (v4183 : BitVec 32) : BitVec 32 :=
  v4183

def k0_mult542 (i : grid0.Coords) : BitVec 32 :=
  let arg1 : BitVec 32 := BitVec.ofNat 32 (i 1).val
  let c2_i32_2500 : BitVec 32 := 2#32
  let v4177 : BitVec 32 := Scalar.muli arg1 c2_i32_2500
  let c1_i32_2501 : BitVec 32 := 1#32
  let v4178 : BitVec 32 := Scalar.addi v4177 c1_i32_2501
  let c256_i32_2502 : BitVec 32 := 256#32
  let v4179 : BitVec 32 := Scalar.muli v4178 c256_i32_2502
  let c13_i32_2503 : BitVec 32 := 13#32
  let v4180 : BitVec 32 := Scalar.addi v4179 c13_i32_2503
  let c8_i32_2507 : BitVec 32 := 8#32
  let v4185 : BitVec 32 := Scalar.muli v4180 c8_i32_2507
  v4185
def k0_off1099 (i : grid0.Coords) : Fin 1 → Nat :=
  let c1_i32_2504 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4181 : BitVec 32 := Scalar.subi c1_i32_2504 v9
  ![v4181.toNat]
def k0_off1100 (i : grid0.Coords) : Fin 3 → Nat :=
  let c1_i32_2504 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4181 : BitVec 32 := Scalar.subi c1_i32_2504 v9
  let arg1 : BitVec 32 := BitVec.ofNat 32 (i 1).val
  let c2_i32_2500 : BitVec 32 := 2#32
  let v4177 : BitVec 32 := Scalar.muli arg1 c2_i32_2500
  let c1_i32_2501 : BitVec 32 := 1#32
  let v4178 : BitVec 32 := Scalar.addi v4177 c1_i32_2501
  let c256_i32_2502 : BitVec 32 := 256#32
  let v4179 : BitVec 32 := Scalar.muli v4178 c256_i32_2502
  let c13_i32_2503 : BitVec 32 := 13#32
  let v4180 : BitVec 32 := Scalar.addi v4179 c13_i32_2503
  let c8_i32_2507 : BitVec 32 := 8#32
  let v4185 : BitVec 32 := Scalar.muli v4180 c8_i32_2507
  let v4186 : BitVec 32 := v4185
  let c0_i32_2508 : BitVec 32 := 0#32
  ![v4181.toNat, v4186.toNat, 0]
def k0_off1101 (v4183 : BitVec 32) : Fin 2 → Nat :=
  let v4184 : BitVec 32 := v4183
  let c0_i32_2509 : BitVec 32 := 0#32
  ![v4184.toNat, 0]

def k0_chk271 (i : grid0.Coords) (v4183 : BitVec 32) : Prop :=
  (∀ (k0_h2 : k0_cond2 i = 1#1), 8 ∣ (k0_mult541 v4183).toNat) ∧
  (∀ (k0_h2 : k0_cond2 i = 1#1), ∀ a, (k0_off1101 v4183) a + S8x128.size a ≤ S131072x128.size a)
theorem k0_mult541_dvd : ∀ (i : grid0.Coords) (v4183 : BitVec 32) (k0_hw271 : k0_chk271 i v4183), ∀ (k0_h2 : k0_cond2 i = 1#1), 8 ∣ (k0_mult541 v4183).toNat := fun i v4183 k0_hw271 k0_h2 => k0_hw271.1 k0_h2
theorem k0_off1101_inb : ∀ (i : grid0.Coords) (v4183 : BitVec 32) (k0_hw271 : k0_chk271 i v4183), ∀ (k0_h2 : k0_cond2 i = 1#1), ∀ a, (k0_off1101 v4183) a + S8x128.size a ≤ S131072x128.size a := fun i v4183 k0_hw271 k0_h2 => k0_hw271.2 k0_h2

def k0_off1102 (i : grid0.Coords) : Fin 3 → Nat :=
  let c0_2515 : Index := 0#32
  let c0_2516 : Index := 0#32
  let arg1 : BitVec 32 := BitVec.ofNat 32 (i 1).val
  let c2_i32_2510 : BitVec 32 := 2#32
  let v4192 : BitVec 32 := Scalar.muli arg1 c2_i32_2510
  let c1_i32_2511 : BitVec 32 := 1#32
  let v4193 : BitVec 32 := Scalar.addi v4192 c1_i32_2511
  let c256_i32_2512 : BitVec 32 := 256#32
  let v4194 : BitVec 32 := Scalar.muli v4193 c256_i32_2512
  let c14_i32_2513 : BitVec 32 := 14#32
  let v4195 : BitVec 32 := Scalar.addi v4194 c14_i32_2513
  let v4197 : Index := Scalar.indexCast v4195
  ![0, 0, v4197.toNat]
def k0_mult543 (v4198 : BitVec 32) : BitVec 32 :=
  v4198

def k0_mult544 (i : grid0.Coords) : BitVec 32 :=
  let arg1 : BitVec 32 := BitVec.ofNat 32 (i 1).val
  let c2_i32_2510 : BitVec 32 := 2#32
  let v4192 : BitVec 32 := Scalar.muli arg1 c2_i32_2510
  let c1_i32_2511 : BitVec 32 := 1#32
  let v4193 : BitVec 32 := Scalar.addi v4192 c1_i32_2511
  let c256_i32_2512 : BitVec 32 := 256#32
  let v4194 : BitVec 32 := Scalar.muli v4193 c256_i32_2512
  let c14_i32_2513 : BitVec 32 := 14#32
  let v4195 : BitVec 32 := Scalar.addi v4194 c14_i32_2513
  let c8_i32_2517 : BitVec 32 := 8#32
  let v4200 : BitVec 32 := Scalar.muli v4195 c8_i32_2517
  v4200
def k0_off1103 (i : grid0.Coords) : Fin 1 → Nat :=
  let c1_i32_2514 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4196 : BitVec 32 := Scalar.subi c1_i32_2514 v9
  ![v4196.toNat]
def k0_off1104 (i : grid0.Coords) : Fin 3 → Nat :=
  let c1_i32_2514 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4196 : BitVec 32 := Scalar.subi c1_i32_2514 v9
  let arg1 : BitVec 32 := BitVec.ofNat 32 (i 1).val
  let c2_i32_2510 : BitVec 32 := 2#32
  let v4192 : BitVec 32 := Scalar.muli arg1 c2_i32_2510
  let c1_i32_2511 : BitVec 32 := 1#32
  let v4193 : BitVec 32 := Scalar.addi v4192 c1_i32_2511
  let c256_i32_2512 : BitVec 32 := 256#32
  let v4194 : BitVec 32 := Scalar.muli v4193 c256_i32_2512
  let c14_i32_2513 : BitVec 32 := 14#32
  let v4195 : BitVec 32 := Scalar.addi v4194 c14_i32_2513
  let c8_i32_2517 : BitVec 32 := 8#32
  let v4200 : BitVec 32 := Scalar.muli v4195 c8_i32_2517
  let v4201 : BitVec 32 := v4200
  let c0_i32_2518 : BitVec 32 := 0#32
  ![v4196.toNat, v4201.toNat, 0]
def k0_off1105 (v4198 : BitVec 32) : Fin 2 → Nat :=
  let v4199 : BitVec 32 := v4198
  let c0_i32_2519 : BitVec 32 := 0#32
  ![v4199.toNat, 0]

def k0_chk272 (i : grid0.Coords) (v4198 : BitVec 32) : Prop :=
  (∀ (k0_h2 : k0_cond2 i = 1#1), 8 ∣ (k0_mult543 v4198).toNat) ∧
  (∀ (k0_h2 : k0_cond2 i = 1#1), ∀ a, (k0_off1105 v4198) a + S8x128.size a ≤ S131072x128.size a)
theorem k0_mult543_dvd : ∀ (i : grid0.Coords) (v4198 : BitVec 32) (k0_hw272 : k0_chk272 i v4198), ∀ (k0_h2 : k0_cond2 i = 1#1), 8 ∣ (k0_mult543 v4198).toNat := fun i v4198 k0_hw272 k0_h2 => k0_hw272.1 k0_h2
theorem k0_off1105_inb : ∀ (i : grid0.Coords) (v4198 : BitVec 32) (k0_hw272 : k0_chk272 i v4198), ∀ (k0_h2 : k0_cond2 i = 1#1), ∀ a, (k0_off1105 v4198) a + S8x128.size a ≤ S131072x128.size a := fun i v4198 k0_hw272 k0_h2 => k0_hw272.2 k0_h2

def k0_off1106 (i : grid0.Coords) : Fin 3 → Nat :=
  let c0_2525 : Index := 0#32
  let c0_2526 : Index := 0#32
  let arg1 : BitVec 32 := BitVec.ofNat 32 (i 1).val
  let c2_i32_2520 : BitVec 32 := 2#32
  let v4207 : BitVec 32 := Scalar.muli arg1 c2_i32_2520
  let c1_i32_2521 : BitVec 32 := 1#32
  let v4208 : BitVec 32 := Scalar.addi v4207 c1_i32_2521
  let c256_i32_2522 : BitVec 32 := 256#32
  let v4209 : BitVec 32 := Scalar.muli v4208 c256_i32_2522
  let c15_i32_2523 : BitVec 32 := 15#32
  let v4210 : BitVec 32 := Scalar.addi v4209 c15_i32_2523
  let v4212 : Index := Scalar.indexCast v4210
  ![0, 0, v4212.toNat]
def k0_mult545 (v4213 : BitVec 32) : BitVec 32 :=
  v4213

def k0_mult546 (i : grid0.Coords) : BitVec 32 :=
  let arg1 : BitVec 32 := BitVec.ofNat 32 (i 1).val
  let c2_i32_2520 : BitVec 32 := 2#32
  let v4207 : BitVec 32 := Scalar.muli arg1 c2_i32_2520
  let c1_i32_2521 : BitVec 32 := 1#32
  let v4208 : BitVec 32 := Scalar.addi v4207 c1_i32_2521
  let c256_i32_2522 : BitVec 32 := 256#32
  let v4209 : BitVec 32 := Scalar.muli v4208 c256_i32_2522
  let c15_i32_2523 : BitVec 32 := 15#32
  let v4210 : BitVec 32 := Scalar.addi v4209 c15_i32_2523
  let c8_i32_2527 : BitVec 32 := 8#32
  let v4215 : BitVec 32 := Scalar.muli v4210 c8_i32_2527
  v4215
def k0_off1107 (i : grid0.Coords) : Fin 1 → Nat :=
  let c1_i32_2524 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4211 : BitVec 32 := Scalar.subi c1_i32_2524 v9
  ![v4211.toNat]
def k0_off1108 (i : grid0.Coords) : Fin 3 → Nat :=
  let c1_i32_2524 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4211 : BitVec 32 := Scalar.subi c1_i32_2524 v9
  let arg1 : BitVec 32 := BitVec.ofNat 32 (i 1).val
  let c2_i32_2520 : BitVec 32 := 2#32
  let v4207 : BitVec 32 := Scalar.muli arg1 c2_i32_2520
  let c1_i32_2521 : BitVec 32 := 1#32
  let v4208 : BitVec 32 := Scalar.addi v4207 c1_i32_2521
  let c256_i32_2522 : BitVec 32 := 256#32
  let v4209 : BitVec 32 := Scalar.muli v4208 c256_i32_2522
  let c15_i32_2523 : BitVec 32 := 15#32
  let v4210 : BitVec 32 := Scalar.addi v4209 c15_i32_2523
  let c8_i32_2527 : BitVec 32 := 8#32
  let v4215 : BitVec 32 := Scalar.muli v4210 c8_i32_2527
  let v4216 : BitVec 32 := v4215
  let c0_i32_2528 : BitVec 32 := 0#32
  ![v4211.toNat, v4216.toNat, 0]
def k0_off1109 (v4213 : BitVec 32) : Fin 2 → Nat :=
  let v4214 : BitVec 32 := v4213
  let c0_i32_2529 : BitVec 32 := 0#32
  ![v4214.toNat, 0]

def k0_chk273 (i : grid0.Coords) (v4213 : BitVec 32) : Prop :=
  (∀ (k0_h2 : k0_cond2 i = 1#1), 8 ∣ (k0_mult545 v4213).toNat) ∧
  (∀ (k0_h2 : k0_cond2 i = 1#1), ∀ a, (k0_off1109 v4213) a + S8x128.size a ≤ S131072x128.size a)
theorem k0_mult545_dvd : ∀ (i : grid0.Coords) (v4213 : BitVec 32) (k0_hw273 : k0_chk273 i v4213), ∀ (k0_h2 : k0_cond2 i = 1#1), 8 ∣ (k0_mult545 v4213).toNat := fun i v4213 k0_hw273 k0_h2 => k0_hw273.1 k0_h2
theorem k0_off1109_inb : ∀ (i : grid0.Coords) (v4213 : BitVec 32) (k0_hw273 : k0_chk273 i v4213), ∀ (k0_h2 : k0_cond2 i = 1#1), ∀ a, (k0_off1109 v4213) a + S8x128.size a ≤ S131072x128.size a := fun i v4213 k0_hw273 k0_h2 => k0_hw273.2 k0_h2

def k0_off1110 (i : grid0.Coords) : Fin 3 → Nat :=
  let c0_2535 : Index := 0#32
  let c0_2536 : Index := 0#32
  let arg1 : BitVec 32 := BitVec.ofNat 32 (i 1).val
  let c2_i32_2530 : BitVec 32 := 2#32
  let v4222 : BitVec 32 := Scalar.muli arg1 c2_i32_2530
  let c1_i32_2531 : BitVec 32 := 1#32
  let v4223 : BitVec 32 := Scalar.addi v4222 c1_i32_2531
  let c256_i32_2532 : BitVec 32 := 256#32
  let v4224 : BitVec 32 := Scalar.muli v4223 c256_i32_2532
  let c16_i32_2533 : BitVec 32 := 16#32
  let v4225 : BitVec 32 := Scalar.addi v4224 c16_i32_2533
  let v4227 : Index := Scalar.indexCast v4225
  ![0, 0, v4227.toNat]
def k0_mult547 (v4228 : BitVec 32) : BitVec 32 :=
  v4228

def k0_mult548 (i : grid0.Coords) : BitVec 32 :=
  let arg1 : BitVec 32 := BitVec.ofNat 32 (i 1).val
  let c2_i32_2530 : BitVec 32 := 2#32
  let v4222 : BitVec 32 := Scalar.muli arg1 c2_i32_2530
  let c1_i32_2531 : BitVec 32 := 1#32
  let v4223 : BitVec 32 := Scalar.addi v4222 c1_i32_2531
  let c256_i32_2532 : BitVec 32 := 256#32
  let v4224 : BitVec 32 := Scalar.muli v4223 c256_i32_2532
  let c16_i32_2533 : BitVec 32 := 16#32
  let v4225 : BitVec 32 := Scalar.addi v4224 c16_i32_2533
  let c8_i32_2537 : BitVec 32 := 8#32
  let v4230 : BitVec 32 := Scalar.muli v4225 c8_i32_2537
  v4230
def k0_off1111 (i : grid0.Coords) : Fin 1 → Nat :=
  let c1_i32_2534 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4226 : BitVec 32 := Scalar.subi c1_i32_2534 v9
  ![v4226.toNat]
def k0_off1112 (i : grid0.Coords) : Fin 3 → Nat :=
  let c1_i32_2534 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4226 : BitVec 32 := Scalar.subi c1_i32_2534 v9
  let arg1 : BitVec 32 := BitVec.ofNat 32 (i 1).val
  let c2_i32_2530 : BitVec 32 := 2#32
  let v4222 : BitVec 32 := Scalar.muli arg1 c2_i32_2530
  let c1_i32_2531 : BitVec 32 := 1#32
  let v4223 : BitVec 32 := Scalar.addi v4222 c1_i32_2531
  let c256_i32_2532 : BitVec 32 := 256#32
  let v4224 : BitVec 32 := Scalar.muli v4223 c256_i32_2532
  let c16_i32_2533 : BitVec 32 := 16#32
  let v4225 : BitVec 32 := Scalar.addi v4224 c16_i32_2533
  let c8_i32_2537 : BitVec 32 := 8#32
  let v4230 : BitVec 32 := Scalar.muli v4225 c8_i32_2537
  let v4231 : BitVec 32 := v4230
  let c0_i32_2538 : BitVec 32 := 0#32
  ![v4226.toNat, v4231.toNat, 0]
def k0_off1113 (v4228 : BitVec 32) : Fin 2 → Nat :=
  let v4229 : BitVec 32 := v4228
  let c0_i32_2539 : BitVec 32 := 0#32
  ![v4229.toNat, 0]

def k0_chk274 (i : grid0.Coords) (v4228 : BitVec 32) : Prop :=
  (∀ (k0_h2 : k0_cond2 i = 1#1), 8 ∣ (k0_mult547 v4228).toNat) ∧
  (∀ (k0_h2 : k0_cond2 i = 1#1), ∀ a, (k0_off1113 v4228) a + S8x128.size a ≤ S131072x128.size a)
theorem k0_mult547_dvd : ∀ (i : grid0.Coords) (v4228 : BitVec 32) (k0_hw274 : k0_chk274 i v4228), ∀ (k0_h2 : k0_cond2 i = 1#1), 8 ∣ (k0_mult547 v4228).toNat := fun i v4228 k0_hw274 k0_h2 => k0_hw274.1 k0_h2
theorem k0_off1113_inb : ∀ (i : grid0.Coords) (v4228 : BitVec 32) (k0_hw274 : k0_chk274 i v4228), ∀ (k0_h2 : k0_cond2 i = 1#1), ∀ a, (k0_off1113 v4228) a + S8x128.size a ≤ S131072x128.size a := fun i v4228 k0_hw274 k0_h2 => k0_hw274.2 k0_h2

def k0_off1114 (i : grid0.Coords) : Fin 3 → Nat :=
  let c0_2545 : Index := 0#32
  let c0_2546 : Index := 0#32
  let arg1 : BitVec 32 := BitVec.ofNat 32 (i 1).val
  let c2_i32_2540 : BitVec 32 := 2#32
  let v4237 : BitVec 32 := Scalar.muli arg1 c2_i32_2540
  let c1_i32_2541 : BitVec 32 := 1#32
  let v4238 : BitVec 32 := Scalar.addi v4237 c1_i32_2541
  let c256_i32_2542 : BitVec 32 := 256#32
  let v4239 : BitVec 32 := Scalar.muli v4238 c256_i32_2542
  let c17_i32_2543 : BitVec 32 := 17#32
  let v4240 : BitVec 32 := Scalar.addi v4239 c17_i32_2543
  let v4242 : Index := Scalar.indexCast v4240
  ![0, 0, v4242.toNat]
def k0_mult549 (v4243 : BitVec 32) : BitVec 32 :=
  v4243

def k0_mult550 (i : grid0.Coords) : BitVec 32 :=
  let arg1 : BitVec 32 := BitVec.ofNat 32 (i 1).val
  let c2_i32_2540 : BitVec 32 := 2#32
  let v4237 : BitVec 32 := Scalar.muli arg1 c2_i32_2540
  let c1_i32_2541 : BitVec 32 := 1#32
  let v4238 : BitVec 32 := Scalar.addi v4237 c1_i32_2541
  let c256_i32_2542 : BitVec 32 := 256#32
  let v4239 : BitVec 32 := Scalar.muli v4238 c256_i32_2542
  let c17_i32_2543 : BitVec 32 := 17#32
  let v4240 : BitVec 32 := Scalar.addi v4239 c17_i32_2543
  let c8_i32_2547 : BitVec 32 := 8#32
  let v4245 : BitVec 32 := Scalar.muli v4240 c8_i32_2547
  v4245
def k0_off1115 (i : grid0.Coords) : Fin 1 → Nat :=
  let c1_i32_2544 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4241 : BitVec 32 := Scalar.subi c1_i32_2544 v9
  ![v4241.toNat]
def k0_off1116 (i : grid0.Coords) : Fin 3 → Nat :=
  let c1_i32_2544 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4241 : BitVec 32 := Scalar.subi c1_i32_2544 v9
  let arg1 : BitVec 32 := BitVec.ofNat 32 (i 1).val
  let c2_i32_2540 : BitVec 32 := 2#32
  let v4237 : BitVec 32 := Scalar.muli arg1 c2_i32_2540
  let c1_i32_2541 : BitVec 32 := 1#32
  let v4238 : BitVec 32 := Scalar.addi v4237 c1_i32_2541
  let c256_i32_2542 : BitVec 32 := 256#32
  let v4239 : BitVec 32 := Scalar.muli v4238 c256_i32_2542
  let c17_i32_2543 : BitVec 32 := 17#32
  let v4240 : BitVec 32 := Scalar.addi v4239 c17_i32_2543
  let c8_i32_2547 : BitVec 32 := 8#32
  let v4245 : BitVec 32 := Scalar.muli v4240 c8_i32_2547
  let v4246 : BitVec 32 := v4245
  let c0_i32_2548 : BitVec 32 := 0#32
  ![v4241.toNat, v4246.toNat, 0]
def k0_off1117 (v4243 : BitVec 32) : Fin 2 → Nat :=
  let v4244 : BitVec 32 := v4243
  let c0_i32_2549 : BitVec 32 := 0#32
  ![v4244.toNat, 0]

def k0_chk275 (i : grid0.Coords) (v4243 : BitVec 32) : Prop :=
  (∀ (k0_h2 : k0_cond2 i = 1#1), 8 ∣ (k0_mult549 v4243).toNat) ∧
  (∀ (k0_h2 : k0_cond2 i = 1#1), ∀ a, (k0_off1117 v4243) a + S8x128.size a ≤ S131072x128.size a)
theorem k0_mult549_dvd : ∀ (i : grid0.Coords) (v4243 : BitVec 32) (k0_hw275 : k0_chk275 i v4243), ∀ (k0_h2 : k0_cond2 i = 1#1), 8 ∣ (k0_mult549 v4243).toNat := fun i v4243 k0_hw275 k0_h2 => k0_hw275.1 k0_h2
theorem k0_off1117_inb : ∀ (i : grid0.Coords) (v4243 : BitVec 32) (k0_hw275 : k0_chk275 i v4243), ∀ (k0_h2 : k0_cond2 i = 1#1), ∀ a, (k0_off1117 v4243) a + S8x128.size a ≤ S131072x128.size a := fun i v4243 k0_hw275 k0_h2 => k0_hw275.2 k0_h2

def k0_off1118 (i : grid0.Coords) : Fin 3 → Nat :=
  let c0_2555 : Index := 0#32
  let c0_2556 : Index := 0#32
  let arg1 : BitVec 32 := BitVec.ofNat 32 (i 1).val
  let c2_i32_2550 : BitVec 32 := 2#32
  let v4252 : BitVec 32 := Scalar.muli arg1 c2_i32_2550
  let c1_i32_2551 : BitVec 32 := 1#32
  let v4253 : BitVec 32 := Scalar.addi v4252 c1_i32_2551
  let c256_i32_2552 : BitVec 32 := 256#32
  let v4254 : BitVec 32 := Scalar.muli v4253 c256_i32_2552
  let c18_i32_2553 : BitVec 32 := 18#32
  let v4255 : BitVec 32 := Scalar.addi v4254 c18_i32_2553
  let v4257 : Index := Scalar.indexCast v4255
  ![0, 0, v4257.toNat]
def k0_mult551 (v4258 : BitVec 32) : BitVec 32 :=
  v4258

def k0_mult552 (i : grid0.Coords) : BitVec 32 :=
  let arg1 : BitVec 32 := BitVec.ofNat 32 (i 1).val
  let c2_i32_2550 : BitVec 32 := 2#32
  let v4252 : BitVec 32 := Scalar.muli arg1 c2_i32_2550
  let c1_i32_2551 : BitVec 32 := 1#32
  let v4253 : BitVec 32 := Scalar.addi v4252 c1_i32_2551
  let c256_i32_2552 : BitVec 32 := 256#32
  let v4254 : BitVec 32 := Scalar.muli v4253 c256_i32_2552
  let c18_i32_2553 : BitVec 32 := 18#32
  let v4255 : BitVec 32 := Scalar.addi v4254 c18_i32_2553
  let c8_i32_2557 : BitVec 32 := 8#32
  let v4260 : BitVec 32 := Scalar.muli v4255 c8_i32_2557
  v4260
def k0_off1119 (i : grid0.Coords) : Fin 1 → Nat :=
  let c1_i32_2554 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4256 : BitVec 32 := Scalar.subi c1_i32_2554 v9
  ![v4256.toNat]
def k0_off1120 (i : grid0.Coords) : Fin 3 → Nat :=
  let c1_i32_2554 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4256 : BitVec 32 := Scalar.subi c1_i32_2554 v9
  let arg1 : BitVec 32 := BitVec.ofNat 32 (i 1).val
  let c2_i32_2550 : BitVec 32 := 2#32
  let v4252 : BitVec 32 := Scalar.muli arg1 c2_i32_2550
  let c1_i32_2551 : BitVec 32 := 1#32
  let v4253 : BitVec 32 := Scalar.addi v4252 c1_i32_2551
  let c256_i32_2552 : BitVec 32 := 256#32
  let v4254 : BitVec 32 := Scalar.muli v4253 c256_i32_2552
  let c18_i32_2553 : BitVec 32 := 18#32
  let v4255 : BitVec 32 := Scalar.addi v4254 c18_i32_2553
  let c8_i32_2557 : BitVec 32 := 8#32
  let v4260 : BitVec 32 := Scalar.muli v4255 c8_i32_2557
  let v4261 : BitVec 32 := v4260
  let c0_i32_2558 : BitVec 32 := 0#32
  ![v4256.toNat, v4261.toNat, 0]
def k0_off1121 (v4258 : BitVec 32) : Fin 2 → Nat :=
  let v4259 : BitVec 32 := v4258
  let c0_i32_2559 : BitVec 32 := 0#32
  ![v4259.toNat, 0]

def k0_chk276 (i : grid0.Coords) (v4258 : BitVec 32) : Prop :=
  (∀ (k0_h2 : k0_cond2 i = 1#1), 8 ∣ (k0_mult551 v4258).toNat) ∧
  (∀ (k0_h2 : k0_cond2 i = 1#1), ∀ a, (k0_off1121 v4258) a + S8x128.size a ≤ S131072x128.size a)
theorem k0_mult551_dvd : ∀ (i : grid0.Coords) (v4258 : BitVec 32) (k0_hw276 : k0_chk276 i v4258), ∀ (k0_h2 : k0_cond2 i = 1#1), 8 ∣ (k0_mult551 v4258).toNat := fun i v4258 k0_hw276 k0_h2 => k0_hw276.1 k0_h2
theorem k0_off1121_inb : ∀ (i : grid0.Coords) (v4258 : BitVec 32) (k0_hw276 : k0_chk276 i v4258), ∀ (k0_h2 : k0_cond2 i = 1#1), ∀ a, (k0_off1121 v4258) a + S8x128.size a ≤ S131072x128.size a := fun i v4258 k0_hw276 k0_h2 => k0_hw276.2 k0_h2

def k0_off1122 (i : grid0.Coords) : Fin 3 → Nat :=
  let c0_2565 : Index := 0#32
  let c0_2566 : Index := 0#32
  let arg1 : BitVec 32 := BitVec.ofNat 32 (i 1).val
  let c2_i32_2560 : BitVec 32 := 2#32
  let v4267 : BitVec 32 := Scalar.muli arg1 c2_i32_2560
  let c1_i32_2561 : BitVec 32 := 1#32
  let v4268 : BitVec 32 := Scalar.addi v4267 c1_i32_2561
  let c256_i32_2562 : BitVec 32 := 256#32
  let v4269 : BitVec 32 := Scalar.muli v4268 c256_i32_2562
  let c19_i32_2563 : BitVec 32 := 19#32
  let v4270 : BitVec 32 := Scalar.addi v4269 c19_i32_2563
  let v4272 : Index := Scalar.indexCast v4270
  ![0, 0, v4272.toNat]
def k0_mult553 (v4273 : BitVec 32) : BitVec 32 :=
  v4273

def k0_mult554 (i : grid0.Coords) : BitVec 32 :=
  let arg1 : BitVec 32 := BitVec.ofNat 32 (i 1).val
  let c2_i32_2560 : BitVec 32 := 2#32
  let v4267 : BitVec 32 := Scalar.muli arg1 c2_i32_2560
  let c1_i32_2561 : BitVec 32 := 1#32
  let v4268 : BitVec 32 := Scalar.addi v4267 c1_i32_2561
  let c256_i32_2562 : BitVec 32 := 256#32
  let v4269 : BitVec 32 := Scalar.muli v4268 c256_i32_2562
  let c19_i32_2563 : BitVec 32 := 19#32
  let v4270 : BitVec 32 := Scalar.addi v4269 c19_i32_2563
  let c8_i32_2567 : BitVec 32 := 8#32
  let v4275 : BitVec 32 := Scalar.muli v4270 c8_i32_2567
  v4275
def k0_off1123 (i : grid0.Coords) : Fin 1 → Nat :=
  let c1_i32_2564 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4271 : BitVec 32 := Scalar.subi c1_i32_2564 v9
  ![v4271.toNat]
def k0_off1124 (i : grid0.Coords) : Fin 3 → Nat :=
  let c1_i32_2564 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4271 : BitVec 32 := Scalar.subi c1_i32_2564 v9
  let arg1 : BitVec 32 := BitVec.ofNat 32 (i 1).val
  let c2_i32_2560 : BitVec 32 := 2#32
  let v4267 : BitVec 32 := Scalar.muli arg1 c2_i32_2560
  let c1_i32_2561 : BitVec 32 := 1#32
  let v4268 : BitVec 32 := Scalar.addi v4267 c1_i32_2561
  let c256_i32_2562 : BitVec 32 := 256#32
  let v4269 : BitVec 32 := Scalar.muli v4268 c256_i32_2562
  let c19_i32_2563 : BitVec 32 := 19#32
  let v4270 : BitVec 32 := Scalar.addi v4269 c19_i32_2563
  let c8_i32_2567 : BitVec 32 := 8#32
  let v4275 : BitVec 32 := Scalar.muli v4270 c8_i32_2567
  let v4276 : BitVec 32 := v4275
  let c0_i32_2568 : BitVec 32 := 0#32
  ![v4271.toNat, v4276.toNat, 0]
def k0_off1125 (v4273 : BitVec 32) : Fin 2 → Nat :=
  let v4274 : BitVec 32 := v4273
  let c0_i32_2569 : BitVec 32 := 0#32
  ![v4274.toNat, 0]

def k0_chk277 (i : grid0.Coords) (v4273 : BitVec 32) : Prop :=
  (∀ (k0_h2 : k0_cond2 i = 1#1), 8 ∣ (k0_mult553 v4273).toNat) ∧
  (∀ (k0_h2 : k0_cond2 i = 1#1), ∀ a, (k0_off1125 v4273) a + S8x128.size a ≤ S131072x128.size a)
theorem k0_mult553_dvd : ∀ (i : grid0.Coords) (v4273 : BitVec 32) (k0_hw277 : k0_chk277 i v4273), ∀ (k0_h2 : k0_cond2 i = 1#1), 8 ∣ (k0_mult553 v4273).toNat := fun i v4273 k0_hw277 k0_h2 => k0_hw277.1 k0_h2
theorem k0_off1125_inb : ∀ (i : grid0.Coords) (v4273 : BitVec 32) (k0_hw277 : k0_chk277 i v4273), ∀ (k0_h2 : k0_cond2 i = 1#1), ∀ a, (k0_off1125 v4273) a + S8x128.size a ≤ S131072x128.size a := fun i v4273 k0_hw277 k0_h2 => k0_hw277.2 k0_h2

def k0_off1126 (i : grid0.Coords) : Fin 3 → Nat :=
  let c0_2575 : Index := 0#32
  let c0_2576 : Index := 0#32
  let arg1 : BitVec 32 := BitVec.ofNat 32 (i 1).val
  let c2_i32_2570 : BitVec 32 := 2#32
  let v4282 : BitVec 32 := Scalar.muli arg1 c2_i32_2570
  let c1_i32_2571 : BitVec 32 := 1#32
  let v4283 : BitVec 32 := Scalar.addi v4282 c1_i32_2571
  let c256_i32_2572 : BitVec 32 := 256#32
  let v4284 : BitVec 32 := Scalar.muli v4283 c256_i32_2572
  let c20_i32_2573 : BitVec 32 := 20#32
  let v4285 : BitVec 32 := Scalar.addi v4284 c20_i32_2573
  let v4287 : Index := Scalar.indexCast v4285
  ![0, 0, v4287.toNat]
def k0_mult555 (v4288 : BitVec 32) : BitVec 32 :=
  v4288

def k0_mult556 (i : grid0.Coords) : BitVec 32 :=
  let arg1 : BitVec 32 := BitVec.ofNat 32 (i 1).val
  let c2_i32_2570 : BitVec 32 := 2#32
  let v4282 : BitVec 32 := Scalar.muli arg1 c2_i32_2570
  let c1_i32_2571 : BitVec 32 := 1#32
  let v4283 : BitVec 32 := Scalar.addi v4282 c1_i32_2571
  let c256_i32_2572 : BitVec 32 := 256#32
  let v4284 : BitVec 32 := Scalar.muli v4283 c256_i32_2572
  let c20_i32_2573 : BitVec 32 := 20#32
  let v4285 : BitVec 32 := Scalar.addi v4284 c20_i32_2573
  let c8_i32_2577 : BitVec 32 := 8#32
  let v4290 : BitVec 32 := Scalar.muli v4285 c8_i32_2577
  v4290
def k0_off1127 (i : grid0.Coords) : Fin 1 → Nat :=
  let c1_i32_2574 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4286 : BitVec 32 := Scalar.subi c1_i32_2574 v9
  ![v4286.toNat]
def k0_off1128 (i : grid0.Coords) : Fin 3 → Nat :=
  let c1_i32_2574 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4286 : BitVec 32 := Scalar.subi c1_i32_2574 v9
  let arg1 : BitVec 32 := BitVec.ofNat 32 (i 1).val
  let c2_i32_2570 : BitVec 32 := 2#32
  let v4282 : BitVec 32 := Scalar.muli arg1 c2_i32_2570
  let c1_i32_2571 : BitVec 32 := 1#32
  let v4283 : BitVec 32 := Scalar.addi v4282 c1_i32_2571
  let c256_i32_2572 : BitVec 32 := 256#32
  let v4284 : BitVec 32 := Scalar.muli v4283 c256_i32_2572
  let c20_i32_2573 : BitVec 32 := 20#32
  let v4285 : BitVec 32 := Scalar.addi v4284 c20_i32_2573
  let c8_i32_2577 : BitVec 32 := 8#32
  let v4290 : BitVec 32 := Scalar.muli v4285 c8_i32_2577
  let v4291 : BitVec 32 := v4290
  let c0_i32_2578 : BitVec 32 := 0#32
  ![v4286.toNat, v4291.toNat, 0]
def k0_off1129 (v4288 : BitVec 32) : Fin 2 → Nat :=
  let v4289 : BitVec 32 := v4288
  let c0_i32_2579 : BitVec 32 := 0#32
  ![v4289.toNat, 0]

def k0_chk278 (i : grid0.Coords) (v4288 : BitVec 32) : Prop :=
  (∀ (k0_h2 : k0_cond2 i = 1#1), 8 ∣ (k0_mult555 v4288).toNat) ∧
  (∀ (k0_h2 : k0_cond2 i = 1#1), ∀ a, (k0_off1129 v4288) a + S8x128.size a ≤ S131072x128.size a)
theorem k0_mult555_dvd : ∀ (i : grid0.Coords) (v4288 : BitVec 32) (k0_hw278 : k0_chk278 i v4288), ∀ (k0_h2 : k0_cond2 i = 1#1), 8 ∣ (k0_mult555 v4288).toNat := fun i v4288 k0_hw278 k0_h2 => k0_hw278.1 k0_h2
theorem k0_off1129_inb : ∀ (i : grid0.Coords) (v4288 : BitVec 32) (k0_hw278 : k0_chk278 i v4288), ∀ (k0_h2 : k0_cond2 i = 1#1), ∀ a, (k0_off1129 v4288) a + S8x128.size a ≤ S131072x128.size a := fun i v4288 k0_hw278 k0_h2 => k0_hw278.2 k0_h2

def k0_off1130 (i : grid0.Coords) : Fin 3 → Nat :=
  let c0_2585 : Index := 0#32
  let c0_2586 : Index := 0#32
  let arg1 : BitVec 32 := BitVec.ofNat 32 (i 1).val
  let c2_i32_2580 : BitVec 32 := 2#32
  let v4297 : BitVec 32 := Scalar.muli arg1 c2_i32_2580
  let c1_i32_2581 : BitVec 32 := 1#32
  let v4298 : BitVec 32 := Scalar.addi v4297 c1_i32_2581
  let c256_i32_2582 : BitVec 32 := 256#32
  let v4299 : BitVec 32 := Scalar.muli v4298 c256_i32_2582
  let c21_i32_2583 : BitVec 32 := 21#32
  let v4300 : BitVec 32 := Scalar.addi v4299 c21_i32_2583
  let v4302 : Index := Scalar.indexCast v4300
  ![0, 0, v4302.toNat]
def k0_mult557 (v4303 : BitVec 32) : BitVec 32 :=
  v4303

def k0_mult558 (i : grid0.Coords) : BitVec 32 :=
  let arg1 : BitVec 32 := BitVec.ofNat 32 (i 1).val
  let c2_i32_2580 : BitVec 32 := 2#32
  let v4297 : BitVec 32 := Scalar.muli arg1 c2_i32_2580
  let c1_i32_2581 : BitVec 32 := 1#32
  let v4298 : BitVec 32 := Scalar.addi v4297 c1_i32_2581
  let c256_i32_2582 : BitVec 32 := 256#32
  let v4299 : BitVec 32 := Scalar.muli v4298 c256_i32_2582
  let c21_i32_2583 : BitVec 32 := 21#32
  let v4300 : BitVec 32 := Scalar.addi v4299 c21_i32_2583
  let c8_i32_2587 : BitVec 32 := 8#32
  let v4305 : BitVec 32 := Scalar.muli v4300 c8_i32_2587
  v4305
def k0_off1131 (i : grid0.Coords) : Fin 1 → Nat :=
  let c1_i32_2584 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4301 : BitVec 32 := Scalar.subi c1_i32_2584 v9
  ![v4301.toNat]
def k0_off1132 (i : grid0.Coords) : Fin 3 → Nat :=
  let c1_i32_2584 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4301 : BitVec 32 := Scalar.subi c1_i32_2584 v9
  let arg1 : BitVec 32 := BitVec.ofNat 32 (i 1).val
  let c2_i32_2580 : BitVec 32 := 2#32
  let v4297 : BitVec 32 := Scalar.muli arg1 c2_i32_2580
  let c1_i32_2581 : BitVec 32 := 1#32
  let v4298 : BitVec 32 := Scalar.addi v4297 c1_i32_2581
  let c256_i32_2582 : BitVec 32 := 256#32
  let v4299 : BitVec 32 := Scalar.muli v4298 c256_i32_2582
  let c21_i32_2583 : BitVec 32 := 21#32
  let v4300 : BitVec 32 := Scalar.addi v4299 c21_i32_2583
  let c8_i32_2587 : BitVec 32 := 8#32
  let v4305 : BitVec 32 := Scalar.muli v4300 c8_i32_2587
  let v4306 : BitVec 32 := v4305
  let c0_i32_2588 : BitVec 32 := 0#32
  ![v4301.toNat, v4306.toNat, 0]
def k0_off1133 (v4303 : BitVec 32) : Fin 2 → Nat :=
  let v4304 : BitVec 32 := v4303
  let c0_i32_2589 : BitVec 32 := 0#32
  ![v4304.toNat, 0]

def k0_chk279 (i : grid0.Coords) (v4303 : BitVec 32) : Prop :=
  (∀ (k0_h2 : k0_cond2 i = 1#1), 8 ∣ (k0_mult557 v4303).toNat) ∧
  (∀ (k0_h2 : k0_cond2 i = 1#1), ∀ a, (k0_off1133 v4303) a + S8x128.size a ≤ S131072x128.size a)
theorem k0_mult557_dvd : ∀ (i : grid0.Coords) (v4303 : BitVec 32) (k0_hw279 : k0_chk279 i v4303), ∀ (k0_h2 : k0_cond2 i = 1#1), 8 ∣ (k0_mult557 v4303).toNat := fun i v4303 k0_hw279 k0_h2 => k0_hw279.1 k0_h2
theorem k0_off1133_inb : ∀ (i : grid0.Coords) (v4303 : BitVec 32) (k0_hw279 : k0_chk279 i v4303), ∀ (k0_h2 : k0_cond2 i = 1#1), ∀ a, (k0_off1133 v4303) a + S8x128.size a ≤ S131072x128.size a := fun i v4303 k0_hw279 k0_h2 => k0_hw279.2 k0_h2

def k0_off1134 (i : grid0.Coords) : Fin 3 → Nat :=
  let c0_2595 : Index := 0#32
  let c0_2596 : Index := 0#32
  let arg1 : BitVec 32 := BitVec.ofNat 32 (i 1).val
  let c2_i32_2590 : BitVec 32 := 2#32
  let v4312 : BitVec 32 := Scalar.muli arg1 c2_i32_2590
  let c1_i32_2591 : BitVec 32 := 1#32
  let v4313 : BitVec 32 := Scalar.addi v4312 c1_i32_2591
  let c256_i32_2592 : BitVec 32 := 256#32
  let v4314 : BitVec 32 := Scalar.muli v4313 c256_i32_2592
  let c22_i32_2593 : BitVec 32 := 22#32
  let v4315 : BitVec 32 := Scalar.addi v4314 c22_i32_2593
  let v4317 : Index := Scalar.indexCast v4315
  ![0, 0, v4317.toNat]
def k0_mult559 (v4318 : BitVec 32) : BitVec 32 :=
  v4318

def k0_mult560 (i : grid0.Coords) : BitVec 32 :=
  let arg1 : BitVec 32 := BitVec.ofNat 32 (i 1).val
  let c2_i32_2590 : BitVec 32 := 2#32
  let v4312 : BitVec 32 := Scalar.muli arg1 c2_i32_2590
  let c1_i32_2591 : BitVec 32 := 1#32
  let v4313 : BitVec 32 := Scalar.addi v4312 c1_i32_2591
  let c256_i32_2592 : BitVec 32 := 256#32
  let v4314 : BitVec 32 := Scalar.muli v4313 c256_i32_2592
  let c22_i32_2593 : BitVec 32 := 22#32
  let v4315 : BitVec 32 := Scalar.addi v4314 c22_i32_2593
  let c8_i32_2597 : BitVec 32 := 8#32
  let v4320 : BitVec 32 := Scalar.muli v4315 c8_i32_2597
  v4320
def k0_off1135 (i : grid0.Coords) : Fin 1 → Nat :=
  let c1_i32_2594 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4316 : BitVec 32 := Scalar.subi c1_i32_2594 v9
  ![v4316.toNat]
def k0_off1136 (i : grid0.Coords) : Fin 3 → Nat :=
  let c1_i32_2594 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4316 : BitVec 32 := Scalar.subi c1_i32_2594 v9
  let arg1 : BitVec 32 := BitVec.ofNat 32 (i 1).val
  let c2_i32_2590 : BitVec 32 := 2#32
  let v4312 : BitVec 32 := Scalar.muli arg1 c2_i32_2590
  let c1_i32_2591 : BitVec 32 := 1#32
  let v4313 : BitVec 32 := Scalar.addi v4312 c1_i32_2591
  let c256_i32_2592 : BitVec 32 := 256#32
  let v4314 : BitVec 32 := Scalar.muli v4313 c256_i32_2592
  let c22_i32_2593 : BitVec 32 := 22#32
  let v4315 : BitVec 32 := Scalar.addi v4314 c22_i32_2593
  let c8_i32_2597 : BitVec 32 := 8#32
  let v4320 : BitVec 32 := Scalar.muli v4315 c8_i32_2597
  let v4321 : BitVec 32 := v4320
  let c0_i32_2598 : BitVec 32 := 0#32
  ![v4316.toNat, v4321.toNat, 0]
def k0_off1137 (v4318 : BitVec 32) : Fin 2 → Nat :=
  let v4319 : BitVec 32 := v4318
  let c0_i32_2599 : BitVec 32 := 0#32
  ![v4319.toNat, 0]

def k0_chk280 (i : grid0.Coords) (v4318 : BitVec 32) : Prop :=
  (∀ (k0_h2 : k0_cond2 i = 1#1), 8 ∣ (k0_mult559 v4318).toNat) ∧
  (∀ (k0_h2 : k0_cond2 i = 1#1), ∀ a, (k0_off1137 v4318) a + S8x128.size a ≤ S131072x128.size a)
theorem k0_mult559_dvd : ∀ (i : grid0.Coords) (v4318 : BitVec 32) (k0_hw280 : k0_chk280 i v4318), ∀ (k0_h2 : k0_cond2 i = 1#1), 8 ∣ (k0_mult559 v4318).toNat := fun i v4318 k0_hw280 k0_h2 => k0_hw280.1 k0_h2
theorem k0_off1137_inb : ∀ (i : grid0.Coords) (v4318 : BitVec 32) (k0_hw280 : k0_chk280 i v4318), ∀ (k0_h2 : k0_cond2 i = 1#1), ∀ a, (k0_off1137 v4318) a + S8x128.size a ≤ S131072x128.size a := fun i v4318 k0_hw280 k0_h2 => k0_hw280.2 k0_h2

def k0_off1138 (i : grid0.Coords) : Fin 3 → Nat :=
  let c0_2605 : Index := 0#32
  let c0_2606 : Index := 0#32
  let arg1 : BitVec 32 := BitVec.ofNat 32 (i 1).val
  let c2_i32_2600 : BitVec 32 := 2#32
  let v4327 : BitVec 32 := Scalar.muli arg1 c2_i32_2600
  let c1_i32_2601 : BitVec 32 := 1#32
  let v4328 : BitVec 32 := Scalar.addi v4327 c1_i32_2601
  let c256_i32_2602 : BitVec 32 := 256#32
  let v4329 : BitVec 32 := Scalar.muli v4328 c256_i32_2602
  let c23_i32_2603 : BitVec 32 := 23#32
  let v4330 : BitVec 32 := Scalar.addi v4329 c23_i32_2603
  let v4332 : Index := Scalar.indexCast v4330
  ![0, 0, v4332.toNat]
def k0_mult561 (v4333 : BitVec 32) : BitVec 32 :=
  v4333

def k0_mult562 (i : grid0.Coords) : BitVec 32 :=
  let arg1 : BitVec 32 := BitVec.ofNat 32 (i 1).val
  let c2_i32_2600 : BitVec 32 := 2#32
  let v4327 : BitVec 32 := Scalar.muli arg1 c2_i32_2600
  let c1_i32_2601 : BitVec 32 := 1#32
  let v4328 : BitVec 32 := Scalar.addi v4327 c1_i32_2601
  let c256_i32_2602 : BitVec 32 := 256#32
  let v4329 : BitVec 32 := Scalar.muli v4328 c256_i32_2602
  let c23_i32_2603 : BitVec 32 := 23#32
  let v4330 : BitVec 32 := Scalar.addi v4329 c23_i32_2603
  let c8_i32_2607 : BitVec 32 := 8#32
  let v4335 : BitVec 32 := Scalar.muli v4330 c8_i32_2607
  v4335
def k0_off1139 (i : grid0.Coords) : Fin 1 → Nat :=
  let c1_i32_2604 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4331 : BitVec 32 := Scalar.subi c1_i32_2604 v9
  ![v4331.toNat]
def k0_off1140 (i : grid0.Coords) : Fin 3 → Nat :=
  let c1_i32_2604 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4331 : BitVec 32 := Scalar.subi c1_i32_2604 v9
  let arg1 : BitVec 32 := BitVec.ofNat 32 (i 1).val
  let c2_i32_2600 : BitVec 32 := 2#32
  let v4327 : BitVec 32 := Scalar.muli arg1 c2_i32_2600
  let c1_i32_2601 : BitVec 32 := 1#32
  let v4328 : BitVec 32 := Scalar.addi v4327 c1_i32_2601
  let c256_i32_2602 : BitVec 32 := 256#32
  let v4329 : BitVec 32 := Scalar.muli v4328 c256_i32_2602
  let c23_i32_2603 : BitVec 32 := 23#32
  let v4330 : BitVec 32 := Scalar.addi v4329 c23_i32_2603
  let c8_i32_2607 : BitVec 32 := 8#32
  let v4335 : BitVec 32 := Scalar.muli v4330 c8_i32_2607
  let v4336 : BitVec 32 := v4335
  let c0_i32_2608 : BitVec 32 := 0#32
  ![v4331.toNat, v4336.toNat, 0]
def k0_off1141 (v4333 : BitVec 32) : Fin 2 → Nat :=
  let v4334 : BitVec 32 := v4333
  let c0_i32_2609 : BitVec 32 := 0#32
  ![v4334.toNat, 0]

def k0_chk281 (i : grid0.Coords) (v4333 : BitVec 32) : Prop :=
  (∀ (k0_h2 : k0_cond2 i = 1#1), 8 ∣ (k0_mult561 v4333).toNat) ∧
  (∀ (k0_h2 : k0_cond2 i = 1#1), ∀ a, (k0_off1141 v4333) a + S8x128.size a ≤ S131072x128.size a)
theorem k0_mult561_dvd : ∀ (i : grid0.Coords) (v4333 : BitVec 32) (k0_hw281 : k0_chk281 i v4333), ∀ (k0_h2 : k0_cond2 i = 1#1), 8 ∣ (k0_mult561 v4333).toNat := fun i v4333 k0_hw281 k0_h2 => k0_hw281.1 k0_h2
theorem k0_off1141_inb : ∀ (i : grid0.Coords) (v4333 : BitVec 32) (k0_hw281 : k0_chk281 i v4333), ∀ (k0_h2 : k0_cond2 i = 1#1), ∀ a, (k0_off1141 v4333) a + S8x128.size a ≤ S131072x128.size a := fun i v4333 k0_hw281 k0_h2 => k0_hw281.2 k0_h2

def k0_off1142 (i : grid0.Coords) : Fin 3 → Nat :=
  let c0_2615 : Index := 0#32
  let c0_2616 : Index := 0#32
  let arg1 : BitVec 32 := BitVec.ofNat 32 (i 1).val
  let c2_i32_2610 : BitVec 32 := 2#32
  let v4342 : BitVec 32 := Scalar.muli arg1 c2_i32_2610
  let c1_i32_2611 : BitVec 32 := 1#32
  let v4343 : BitVec 32 := Scalar.addi v4342 c1_i32_2611
  let c256_i32_2612 : BitVec 32 := 256#32
  let v4344 : BitVec 32 := Scalar.muli v4343 c256_i32_2612
  let c24_i32_2613 : BitVec 32 := 24#32
  let v4345 : BitVec 32 := Scalar.addi v4344 c24_i32_2613
  let v4347 : Index := Scalar.indexCast v4345
  ![0, 0, v4347.toNat]
def k0_mult563 (v4348 : BitVec 32) : BitVec 32 :=
  v4348

def k0_mult564 (i : grid0.Coords) : BitVec 32 :=
  let arg1 : BitVec 32 := BitVec.ofNat 32 (i 1).val
  let c2_i32_2610 : BitVec 32 := 2#32
  let v4342 : BitVec 32 := Scalar.muli arg1 c2_i32_2610
  let c1_i32_2611 : BitVec 32 := 1#32
  let v4343 : BitVec 32 := Scalar.addi v4342 c1_i32_2611
  let c256_i32_2612 : BitVec 32 := 256#32
  let v4344 : BitVec 32 := Scalar.muli v4343 c256_i32_2612
  let c24_i32_2613 : BitVec 32 := 24#32
  let v4345 : BitVec 32 := Scalar.addi v4344 c24_i32_2613
  let c8_i32_2617 : BitVec 32 := 8#32
  let v4350 : BitVec 32 := Scalar.muli v4345 c8_i32_2617
  v4350
def k0_off1143 (i : grid0.Coords) : Fin 1 → Nat :=
  let c1_i32_2614 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4346 : BitVec 32 := Scalar.subi c1_i32_2614 v9
  ![v4346.toNat]
def k0_off1144 (i : grid0.Coords) : Fin 3 → Nat :=
  let c1_i32_2614 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4346 : BitVec 32 := Scalar.subi c1_i32_2614 v9
  let arg1 : BitVec 32 := BitVec.ofNat 32 (i 1).val
  let c2_i32_2610 : BitVec 32 := 2#32
  let v4342 : BitVec 32 := Scalar.muli arg1 c2_i32_2610
  let c1_i32_2611 : BitVec 32 := 1#32
  let v4343 : BitVec 32 := Scalar.addi v4342 c1_i32_2611
  let c256_i32_2612 : BitVec 32 := 256#32
  let v4344 : BitVec 32 := Scalar.muli v4343 c256_i32_2612
  let c24_i32_2613 : BitVec 32 := 24#32
  let v4345 : BitVec 32 := Scalar.addi v4344 c24_i32_2613
  let c8_i32_2617 : BitVec 32 := 8#32
  let v4350 : BitVec 32 := Scalar.muli v4345 c8_i32_2617
  let v4351 : BitVec 32 := v4350
  let c0_i32_2618 : BitVec 32 := 0#32
  ![v4346.toNat, v4351.toNat, 0]
def k0_off1145 (v4348 : BitVec 32) : Fin 2 → Nat :=
  let v4349 : BitVec 32 := v4348
  let c0_i32_2619 : BitVec 32 := 0#32
  ![v4349.toNat, 0]

def k0_chk282 (i : grid0.Coords) (v4348 : BitVec 32) : Prop :=
  (∀ (k0_h2 : k0_cond2 i = 1#1), 8 ∣ (k0_mult563 v4348).toNat) ∧
  (∀ (k0_h2 : k0_cond2 i = 1#1), ∀ a, (k0_off1145 v4348) a + S8x128.size a ≤ S131072x128.size a)
theorem k0_mult563_dvd : ∀ (i : grid0.Coords) (v4348 : BitVec 32) (k0_hw282 : k0_chk282 i v4348), ∀ (k0_h2 : k0_cond2 i = 1#1), 8 ∣ (k0_mult563 v4348).toNat := fun i v4348 k0_hw282 k0_h2 => k0_hw282.1 k0_h2
theorem k0_off1145_inb : ∀ (i : grid0.Coords) (v4348 : BitVec 32) (k0_hw282 : k0_chk282 i v4348), ∀ (k0_h2 : k0_cond2 i = 1#1), ∀ a, (k0_off1145 v4348) a + S8x128.size a ≤ S131072x128.size a := fun i v4348 k0_hw282 k0_h2 => k0_hw282.2 k0_h2

def k0_off1146 (i : grid0.Coords) : Fin 3 → Nat :=
  let c0_2625 : Index := 0#32
  let c0_2626 : Index := 0#32
  let arg1 : BitVec 32 := BitVec.ofNat 32 (i 1).val
  let c2_i32_2620 : BitVec 32 := 2#32
  let v4357 : BitVec 32 := Scalar.muli arg1 c2_i32_2620
  let c1_i32_2621 : BitVec 32 := 1#32
  let v4358 : BitVec 32 := Scalar.addi v4357 c1_i32_2621
  let c256_i32_2622 : BitVec 32 := 256#32
  let v4359 : BitVec 32 := Scalar.muli v4358 c256_i32_2622
  let c25_i32_2623 : BitVec 32 := 25#32
  let v4360 : BitVec 32 := Scalar.addi v4359 c25_i32_2623
  let v4362 : Index := Scalar.indexCast v4360
  ![0, 0, v4362.toNat]
def k0_mult565 (v4363 : BitVec 32) : BitVec 32 :=
  v4363

def k0_mult566 (i : grid0.Coords) : BitVec 32 :=
  let arg1 : BitVec 32 := BitVec.ofNat 32 (i 1).val
  let c2_i32_2620 : BitVec 32 := 2#32
  let v4357 : BitVec 32 := Scalar.muli arg1 c2_i32_2620
  let c1_i32_2621 : BitVec 32 := 1#32
  let v4358 : BitVec 32 := Scalar.addi v4357 c1_i32_2621
  let c256_i32_2622 : BitVec 32 := 256#32
  let v4359 : BitVec 32 := Scalar.muli v4358 c256_i32_2622
  let c25_i32_2623 : BitVec 32 := 25#32
  let v4360 : BitVec 32 := Scalar.addi v4359 c25_i32_2623
  let c8_i32_2627 : BitVec 32 := 8#32
  let v4365 : BitVec 32 := Scalar.muli v4360 c8_i32_2627
  v4365
def k0_off1147 (i : grid0.Coords) : Fin 1 → Nat :=
  let c1_i32_2624 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4361 : BitVec 32 := Scalar.subi c1_i32_2624 v9
  ![v4361.toNat]
def k0_off1148 (i : grid0.Coords) : Fin 3 → Nat :=
  let c1_i32_2624 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4361 : BitVec 32 := Scalar.subi c1_i32_2624 v9
  let arg1 : BitVec 32 := BitVec.ofNat 32 (i 1).val
  let c2_i32_2620 : BitVec 32 := 2#32
  let v4357 : BitVec 32 := Scalar.muli arg1 c2_i32_2620
  let c1_i32_2621 : BitVec 32 := 1#32
  let v4358 : BitVec 32 := Scalar.addi v4357 c1_i32_2621
  let c256_i32_2622 : BitVec 32 := 256#32
  let v4359 : BitVec 32 := Scalar.muli v4358 c256_i32_2622
  let c25_i32_2623 : BitVec 32 := 25#32
  let v4360 : BitVec 32 := Scalar.addi v4359 c25_i32_2623
  let c8_i32_2627 : BitVec 32 := 8#32
  let v4365 : BitVec 32 := Scalar.muli v4360 c8_i32_2627
  let v4366 : BitVec 32 := v4365
  let c0_i32_2628 : BitVec 32 := 0#32
  ![v4361.toNat, v4366.toNat, 0]
def k0_off1149 (v4363 : BitVec 32) : Fin 2 → Nat :=
  let v4364 : BitVec 32 := v4363
  let c0_i32_2629 : BitVec 32 := 0#32
  ![v4364.toNat, 0]

def k0_chk283 (i : grid0.Coords) (v4363 : BitVec 32) : Prop :=
  (∀ (k0_h2 : k0_cond2 i = 1#1), 8 ∣ (k0_mult565 v4363).toNat) ∧
  (∀ (k0_h2 : k0_cond2 i = 1#1), ∀ a, (k0_off1149 v4363) a + S8x128.size a ≤ S131072x128.size a)
theorem k0_mult565_dvd : ∀ (i : grid0.Coords) (v4363 : BitVec 32) (k0_hw283 : k0_chk283 i v4363), ∀ (k0_h2 : k0_cond2 i = 1#1), 8 ∣ (k0_mult565 v4363).toNat := fun i v4363 k0_hw283 k0_h2 => k0_hw283.1 k0_h2
theorem k0_off1149_inb : ∀ (i : grid0.Coords) (v4363 : BitVec 32) (k0_hw283 : k0_chk283 i v4363), ∀ (k0_h2 : k0_cond2 i = 1#1), ∀ a, (k0_off1149 v4363) a + S8x128.size a ≤ S131072x128.size a := fun i v4363 k0_hw283 k0_h2 => k0_hw283.2 k0_h2

def k0_off1150 (i : grid0.Coords) : Fin 3 → Nat :=
  let c0_2635 : Index := 0#32
  let c0_2636 : Index := 0#32
  let arg1 : BitVec 32 := BitVec.ofNat 32 (i 1).val
  let c2_i32_2630 : BitVec 32 := 2#32
  let v4372 : BitVec 32 := Scalar.muli arg1 c2_i32_2630
  let c1_i32_2631 : BitVec 32 := 1#32
  let v4373 : BitVec 32 := Scalar.addi v4372 c1_i32_2631
  let c256_i32_2632 : BitVec 32 := 256#32
  let v4374 : BitVec 32 := Scalar.muli v4373 c256_i32_2632
  let c26_i32_2633 : BitVec 32 := 26#32
  let v4375 : BitVec 32 := Scalar.addi v4374 c26_i32_2633
  let v4377 : Index := Scalar.indexCast v4375
  ![0, 0, v4377.toNat]
def k0_mult567 (v4378 : BitVec 32) : BitVec 32 :=
  v4378

def k0_mult568 (i : grid0.Coords) : BitVec 32 :=
  let arg1 : BitVec 32 := BitVec.ofNat 32 (i 1).val
  let c2_i32_2630 : BitVec 32 := 2#32
  let v4372 : BitVec 32 := Scalar.muli arg1 c2_i32_2630
  let c1_i32_2631 : BitVec 32 := 1#32
  let v4373 : BitVec 32 := Scalar.addi v4372 c1_i32_2631
  let c256_i32_2632 : BitVec 32 := 256#32
  let v4374 : BitVec 32 := Scalar.muli v4373 c256_i32_2632
  let c26_i32_2633 : BitVec 32 := 26#32
  let v4375 : BitVec 32 := Scalar.addi v4374 c26_i32_2633
  let c8_i32_2637 : BitVec 32 := 8#32
  let v4380 : BitVec 32 := Scalar.muli v4375 c8_i32_2637
  v4380
def k0_off1151 (i : grid0.Coords) : Fin 1 → Nat :=
  let c1_i32_2634 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4376 : BitVec 32 := Scalar.subi c1_i32_2634 v9
  ![v4376.toNat]
def k0_off1152 (i : grid0.Coords) : Fin 3 → Nat :=
  let c1_i32_2634 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4376 : BitVec 32 := Scalar.subi c1_i32_2634 v9
  let arg1 : BitVec 32 := BitVec.ofNat 32 (i 1).val
  let c2_i32_2630 : BitVec 32 := 2#32
  let v4372 : BitVec 32 := Scalar.muli arg1 c2_i32_2630
  let c1_i32_2631 : BitVec 32 := 1#32
  let v4373 : BitVec 32 := Scalar.addi v4372 c1_i32_2631
  let c256_i32_2632 : BitVec 32 := 256#32
  let v4374 : BitVec 32 := Scalar.muli v4373 c256_i32_2632
  let c26_i32_2633 : BitVec 32 := 26#32
  let v4375 : BitVec 32 := Scalar.addi v4374 c26_i32_2633
  let c8_i32_2637 : BitVec 32 := 8#32
  let v4380 : BitVec 32 := Scalar.muli v4375 c8_i32_2637
  let v4381 : BitVec 32 := v4380
  let c0_i32_2638 : BitVec 32 := 0#32
  ![v4376.toNat, v4381.toNat, 0]
def k0_off1153 (v4378 : BitVec 32) : Fin 2 → Nat :=
  let v4379 : BitVec 32 := v4378
  let c0_i32_2639 : BitVec 32 := 0#32
  ![v4379.toNat, 0]

def k0_chk284 (i : grid0.Coords) (v4378 : BitVec 32) : Prop :=
  (∀ (k0_h2 : k0_cond2 i = 1#1), 8 ∣ (k0_mult567 v4378).toNat) ∧
  (∀ (k0_h2 : k0_cond2 i = 1#1), ∀ a, (k0_off1153 v4378) a + S8x128.size a ≤ S131072x128.size a)
theorem k0_mult567_dvd : ∀ (i : grid0.Coords) (v4378 : BitVec 32) (k0_hw284 : k0_chk284 i v4378), ∀ (k0_h2 : k0_cond2 i = 1#1), 8 ∣ (k0_mult567 v4378).toNat := fun i v4378 k0_hw284 k0_h2 => k0_hw284.1 k0_h2
theorem k0_off1153_inb : ∀ (i : grid0.Coords) (v4378 : BitVec 32) (k0_hw284 : k0_chk284 i v4378), ∀ (k0_h2 : k0_cond2 i = 1#1), ∀ a, (k0_off1153 v4378) a + S8x128.size a ≤ S131072x128.size a := fun i v4378 k0_hw284 k0_h2 => k0_hw284.2 k0_h2

def k0_off1154 (i : grid0.Coords) : Fin 3 → Nat :=
  let c0_2645 : Index := 0#32
  let c0_2646 : Index := 0#32
  let arg1 : BitVec 32 := BitVec.ofNat 32 (i 1).val
  let c2_i32_2640 : BitVec 32 := 2#32
  let v4387 : BitVec 32 := Scalar.muli arg1 c2_i32_2640
  let c1_i32_2641 : BitVec 32 := 1#32
  let v4388 : BitVec 32 := Scalar.addi v4387 c1_i32_2641
  let c256_i32_2642 : BitVec 32 := 256#32
  let v4389 : BitVec 32 := Scalar.muli v4388 c256_i32_2642
  let c27_i32_2643 : BitVec 32 := 27#32
  let v4390 : BitVec 32 := Scalar.addi v4389 c27_i32_2643
  let v4392 : Index := Scalar.indexCast v4390
  ![0, 0, v4392.toNat]
def k0_mult569 (v4393 : BitVec 32) : BitVec 32 :=
  v4393

def k0_mult570 (i : grid0.Coords) : BitVec 32 :=
  let arg1 : BitVec 32 := BitVec.ofNat 32 (i 1).val
  let c2_i32_2640 : BitVec 32 := 2#32
  let v4387 : BitVec 32 := Scalar.muli arg1 c2_i32_2640
  let c1_i32_2641 : BitVec 32 := 1#32
  let v4388 : BitVec 32 := Scalar.addi v4387 c1_i32_2641
  let c256_i32_2642 : BitVec 32 := 256#32
  let v4389 : BitVec 32 := Scalar.muli v4388 c256_i32_2642
  let c27_i32_2643 : BitVec 32 := 27#32
  let v4390 : BitVec 32 := Scalar.addi v4389 c27_i32_2643
  let c8_i32_2647 : BitVec 32 := 8#32
  let v4395 : BitVec 32 := Scalar.muli v4390 c8_i32_2647
  v4395
def k0_off1155 (i : grid0.Coords) : Fin 1 → Nat :=
  let c1_i32_2644 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4391 : BitVec 32 := Scalar.subi c1_i32_2644 v9
  ![v4391.toNat]
def k0_off1156 (i : grid0.Coords) : Fin 3 → Nat :=
  let c1_i32_2644 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4391 : BitVec 32 := Scalar.subi c1_i32_2644 v9
  let arg1 : BitVec 32 := BitVec.ofNat 32 (i 1).val
  let c2_i32_2640 : BitVec 32 := 2#32
  let v4387 : BitVec 32 := Scalar.muli arg1 c2_i32_2640
  let c1_i32_2641 : BitVec 32 := 1#32
  let v4388 : BitVec 32 := Scalar.addi v4387 c1_i32_2641
  let c256_i32_2642 : BitVec 32 := 256#32
  let v4389 : BitVec 32 := Scalar.muli v4388 c256_i32_2642
  let c27_i32_2643 : BitVec 32 := 27#32
  let v4390 : BitVec 32 := Scalar.addi v4389 c27_i32_2643
  let c8_i32_2647 : BitVec 32 := 8#32
  let v4395 : BitVec 32 := Scalar.muli v4390 c8_i32_2647
  let v4396 : BitVec 32 := v4395
  let c0_i32_2648 : BitVec 32 := 0#32
  ![v4391.toNat, v4396.toNat, 0]
def k0_off1157 (v4393 : BitVec 32) : Fin 2 → Nat :=
  let v4394 : BitVec 32 := v4393
  let c0_i32_2649 : BitVec 32 := 0#32
  ![v4394.toNat, 0]

def k0_chk285 (i : grid0.Coords) (v4393 : BitVec 32) : Prop :=
  (∀ (k0_h2 : k0_cond2 i = 1#1), 8 ∣ (k0_mult569 v4393).toNat) ∧
  (∀ (k0_h2 : k0_cond2 i = 1#1), ∀ a, (k0_off1157 v4393) a + S8x128.size a ≤ S131072x128.size a)
theorem k0_mult569_dvd : ∀ (i : grid0.Coords) (v4393 : BitVec 32) (k0_hw285 : k0_chk285 i v4393), ∀ (k0_h2 : k0_cond2 i = 1#1), 8 ∣ (k0_mult569 v4393).toNat := fun i v4393 k0_hw285 k0_h2 => k0_hw285.1 k0_h2
theorem k0_off1157_inb : ∀ (i : grid0.Coords) (v4393 : BitVec 32) (k0_hw285 : k0_chk285 i v4393), ∀ (k0_h2 : k0_cond2 i = 1#1), ∀ a, (k0_off1157 v4393) a + S8x128.size a ≤ S131072x128.size a := fun i v4393 k0_hw285 k0_h2 => k0_hw285.2 k0_h2

def k0_off1158 (i : grid0.Coords) : Fin 3 → Nat :=
  let c0_2655 : Index := 0#32
  let c0_2656 : Index := 0#32
  let arg1 : BitVec 32 := BitVec.ofNat 32 (i 1).val
  let c2_i32_2650 : BitVec 32 := 2#32
  let v4402 : BitVec 32 := Scalar.muli arg1 c2_i32_2650
  let c1_i32_2651 : BitVec 32 := 1#32
  let v4403 : BitVec 32 := Scalar.addi v4402 c1_i32_2651
  let c256_i32_2652 : BitVec 32 := 256#32
  let v4404 : BitVec 32 := Scalar.muli v4403 c256_i32_2652
  let c28_i32_2653 : BitVec 32 := 28#32
  let v4405 : BitVec 32 := Scalar.addi v4404 c28_i32_2653
  let v4407 : Index := Scalar.indexCast v4405
  ![0, 0, v4407.toNat]
def k0_mult571 (v4408 : BitVec 32) : BitVec 32 :=
  v4408

def k0_mult572 (i : grid0.Coords) : BitVec 32 :=
  let arg1 : BitVec 32 := BitVec.ofNat 32 (i 1).val
  let c2_i32_2650 : BitVec 32 := 2#32
  let v4402 : BitVec 32 := Scalar.muli arg1 c2_i32_2650
  let c1_i32_2651 : BitVec 32 := 1#32
  let v4403 : BitVec 32 := Scalar.addi v4402 c1_i32_2651
  let c256_i32_2652 : BitVec 32 := 256#32
  let v4404 : BitVec 32 := Scalar.muli v4403 c256_i32_2652
  let c28_i32_2653 : BitVec 32 := 28#32
  let v4405 : BitVec 32 := Scalar.addi v4404 c28_i32_2653
  let c8_i32_2657 : BitVec 32 := 8#32
  let v4410 : BitVec 32 := Scalar.muli v4405 c8_i32_2657
  v4410
def k0_off1159 (i : grid0.Coords) : Fin 1 → Nat :=
  let c1_i32_2654 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4406 : BitVec 32 := Scalar.subi c1_i32_2654 v9
  ![v4406.toNat]
def k0_off1160 (i : grid0.Coords) : Fin 3 → Nat :=
  let c1_i32_2654 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4406 : BitVec 32 := Scalar.subi c1_i32_2654 v9
  let arg1 : BitVec 32 := BitVec.ofNat 32 (i 1).val
  let c2_i32_2650 : BitVec 32 := 2#32
  let v4402 : BitVec 32 := Scalar.muli arg1 c2_i32_2650
  let c1_i32_2651 : BitVec 32 := 1#32
  let v4403 : BitVec 32 := Scalar.addi v4402 c1_i32_2651
  let c256_i32_2652 : BitVec 32 := 256#32
  let v4404 : BitVec 32 := Scalar.muli v4403 c256_i32_2652
  let c28_i32_2653 : BitVec 32 := 28#32
  let v4405 : BitVec 32 := Scalar.addi v4404 c28_i32_2653
  let c8_i32_2657 : BitVec 32 := 8#32
  let v4410 : BitVec 32 := Scalar.muli v4405 c8_i32_2657
  let v4411 : BitVec 32 := v4410
  let c0_i32_2658 : BitVec 32 := 0#32
  ![v4406.toNat, v4411.toNat, 0]
def k0_off1161 (v4408 : BitVec 32) : Fin 2 → Nat :=
  let v4409 : BitVec 32 := v4408
  let c0_i32_2659 : BitVec 32 := 0#32
  ![v4409.toNat, 0]

def k0_chk286 (i : grid0.Coords) (v4408 : BitVec 32) : Prop :=
  (∀ (k0_h2 : k0_cond2 i = 1#1), 8 ∣ (k0_mult571 v4408).toNat) ∧
  (∀ (k0_h2 : k0_cond2 i = 1#1), ∀ a, (k0_off1161 v4408) a + S8x128.size a ≤ S131072x128.size a)
theorem k0_mult571_dvd : ∀ (i : grid0.Coords) (v4408 : BitVec 32) (k0_hw286 : k0_chk286 i v4408), ∀ (k0_h2 : k0_cond2 i = 1#1), 8 ∣ (k0_mult571 v4408).toNat := fun i v4408 k0_hw286 k0_h2 => k0_hw286.1 k0_h2
theorem k0_off1161_inb : ∀ (i : grid0.Coords) (v4408 : BitVec 32) (k0_hw286 : k0_chk286 i v4408), ∀ (k0_h2 : k0_cond2 i = 1#1), ∀ a, (k0_off1161 v4408) a + S8x128.size a ≤ S131072x128.size a := fun i v4408 k0_hw286 k0_h2 => k0_hw286.2 k0_h2

def k0_off1162 (i : grid0.Coords) : Fin 3 → Nat :=
  let c0_2665 : Index := 0#32
  let c0_2666 : Index := 0#32
  let arg1 : BitVec 32 := BitVec.ofNat 32 (i 1).val
  let c2_i32_2660 : BitVec 32 := 2#32
  let v4417 : BitVec 32 := Scalar.muli arg1 c2_i32_2660
  let c1_i32_2661 : BitVec 32 := 1#32
  let v4418 : BitVec 32 := Scalar.addi v4417 c1_i32_2661
  let c256_i32_2662 : BitVec 32 := 256#32
  let v4419 : BitVec 32 := Scalar.muli v4418 c256_i32_2662
  let c29_i32_2663 : BitVec 32 := 29#32
  let v4420 : BitVec 32 := Scalar.addi v4419 c29_i32_2663
  let v4422 : Index := Scalar.indexCast v4420
  ![0, 0, v4422.toNat]
def k0_mult573 (v4423 : BitVec 32) : BitVec 32 :=
  v4423

def k0_mult574 (i : grid0.Coords) : BitVec 32 :=
  let arg1 : BitVec 32 := BitVec.ofNat 32 (i 1).val
  let c2_i32_2660 : BitVec 32 := 2#32
  let v4417 : BitVec 32 := Scalar.muli arg1 c2_i32_2660
  let c1_i32_2661 : BitVec 32 := 1#32
  let v4418 : BitVec 32 := Scalar.addi v4417 c1_i32_2661
  let c256_i32_2662 : BitVec 32 := 256#32
  let v4419 : BitVec 32 := Scalar.muli v4418 c256_i32_2662
  let c29_i32_2663 : BitVec 32 := 29#32
  let v4420 : BitVec 32 := Scalar.addi v4419 c29_i32_2663
  let c8_i32_2667 : BitVec 32 := 8#32
  let v4425 : BitVec 32 := Scalar.muli v4420 c8_i32_2667
  v4425
def k0_off1163 (i : grid0.Coords) : Fin 1 → Nat :=
  let c1_i32_2664 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4421 : BitVec 32 := Scalar.subi c1_i32_2664 v9
  ![v4421.toNat]
def k0_off1164 (i : grid0.Coords) : Fin 3 → Nat :=
  let c1_i32_2664 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4421 : BitVec 32 := Scalar.subi c1_i32_2664 v9
  let arg1 : BitVec 32 := BitVec.ofNat 32 (i 1).val
  let c2_i32_2660 : BitVec 32 := 2#32
  let v4417 : BitVec 32 := Scalar.muli arg1 c2_i32_2660
  let c1_i32_2661 : BitVec 32 := 1#32
  let v4418 : BitVec 32 := Scalar.addi v4417 c1_i32_2661
  let c256_i32_2662 : BitVec 32 := 256#32
  let v4419 : BitVec 32 := Scalar.muli v4418 c256_i32_2662
  let c29_i32_2663 : BitVec 32 := 29#32
  let v4420 : BitVec 32 := Scalar.addi v4419 c29_i32_2663
  let c8_i32_2667 : BitVec 32 := 8#32
  let v4425 : BitVec 32 := Scalar.muli v4420 c8_i32_2667
  let v4426 : BitVec 32 := v4425
  let c0_i32_2668 : BitVec 32 := 0#32
  ![v4421.toNat, v4426.toNat, 0]
def k0_off1165 (v4423 : BitVec 32) : Fin 2 → Nat :=
  let v4424 : BitVec 32 := v4423
  let c0_i32_2669 : BitVec 32 := 0#32
  ![v4424.toNat, 0]

def k0_chk287 (i : grid0.Coords) (v4423 : BitVec 32) : Prop :=
  (∀ (k0_h2 : k0_cond2 i = 1#1), 8 ∣ (k0_mult573 v4423).toNat) ∧
  (∀ (k0_h2 : k0_cond2 i = 1#1), ∀ a, (k0_off1165 v4423) a + S8x128.size a ≤ S131072x128.size a)
theorem k0_mult573_dvd : ∀ (i : grid0.Coords) (v4423 : BitVec 32) (k0_hw287 : k0_chk287 i v4423), ∀ (k0_h2 : k0_cond2 i = 1#1), 8 ∣ (k0_mult573 v4423).toNat := fun i v4423 k0_hw287 k0_h2 => k0_hw287.1 k0_h2
theorem k0_off1165_inb : ∀ (i : grid0.Coords) (v4423 : BitVec 32) (k0_hw287 : k0_chk287 i v4423), ∀ (k0_h2 : k0_cond2 i = 1#1), ∀ a, (k0_off1165 v4423) a + S8x128.size a ≤ S131072x128.size a := fun i v4423 k0_hw287 k0_h2 => k0_hw287.2 k0_h2

def k0_off1166 (i : grid0.Coords) : Fin 3 → Nat :=
  let c0_2675 : Index := 0#32
  let c0_2676 : Index := 0#32
  let arg1 : BitVec 32 := BitVec.ofNat 32 (i 1).val
  let c2_i32_2670 : BitVec 32 := 2#32
  let v4432 : BitVec 32 := Scalar.muli arg1 c2_i32_2670
  let c1_i32_2671 : BitVec 32 := 1#32
  let v4433 : BitVec 32 := Scalar.addi v4432 c1_i32_2671
  let c256_i32_2672 : BitVec 32 := 256#32
  let v4434 : BitVec 32 := Scalar.muli v4433 c256_i32_2672
  let c30_i32_2673 : BitVec 32 := 30#32
  let v4435 : BitVec 32 := Scalar.addi v4434 c30_i32_2673
  let v4437 : Index := Scalar.indexCast v4435
  ![0, 0, v4437.toNat]
def k0_mult575 (v4438 : BitVec 32) : BitVec 32 :=
  v4438

def k0_mult576 (i : grid0.Coords) : BitVec 32 :=
  let arg1 : BitVec 32 := BitVec.ofNat 32 (i 1).val
  let c2_i32_2670 : BitVec 32 := 2#32
  let v4432 : BitVec 32 := Scalar.muli arg1 c2_i32_2670
  let c1_i32_2671 : BitVec 32 := 1#32
  let v4433 : BitVec 32 := Scalar.addi v4432 c1_i32_2671
  let c256_i32_2672 : BitVec 32 := 256#32
  let v4434 : BitVec 32 := Scalar.muli v4433 c256_i32_2672
  let c30_i32_2673 : BitVec 32 := 30#32
  let v4435 : BitVec 32 := Scalar.addi v4434 c30_i32_2673
  let c8_i32_2677 : BitVec 32 := 8#32
  let v4440 : BitVec 32 := Scalar.muli v4435 c8_i32_2677
  v4440
def k0_off1167 (i : grid0.Coords) : Fin 1 → Nat :=
  let c1_i32_2674 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4436 : BitVec 32 := Scalar.subi c1_i32_2674 v9
  ![v4436.toNat]
def k0_off1168 (i : grid0.Coords) : Fin 3 → Nat :=
  let c1_i32_2674 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4436 : BitVec 32 := Scalar.subi c1_i32_2674 v9
  let arg1 : BitVec 32 := BitVec.ofNat 32 (i 1).val
  let c2_i32_2670 : BitVec 32 := 2#32
  let v4432 : BitVec 32 := Scalar.muli arg1 c2_i32_2670
  let c1_i32_2671 : BitVec 32 := 1#32
  let v4433 : BitVec 32 := Scalar.addi v4432 c1_i32_2671
  let c256_i32_2672 : BitVec 32 := 256#32
  let v4434 : BitVec 32 := Scalar.muli v4433 c256_i32_2672
  let c30_i32_2673 : BitVec 32 := 30#32
  let v4435 : BitVec 32 := Scalar.addi v4434 c30_i32_2673
  let c8_i32_2677 : BitVec 32 := 8#32
  let v4440 : BitVec 32 := Scalar.muli v4435 c8_i32_2677
  let v4441 : BitVec 32 := v4440
  let c0_i32_2678 : BitVec 32 := 0#32
  ![v4436.toNat, v4441.toNat, 0]
def k0_off1169 (v4438 : BitVec 32) : Fin 2 → Nat :=
  let v4439 : BitVec 32 := v4438
  let c0_i32_2679 : BitVec 32 := 0#32
  ![v4439.toNat, 0]

def k0_chk288 (i : grid0.Coords) (v4438 : BitVec 32) : Prop :=
  (∀ (k0_h2 : k0_cond2 i = 1#1), 8 ∣ (k0_mult575 v4438).toNat) ∧
  (∀ (k0_h2 : k0_cond2 i = 1#1), ∀ a, (k0_off1169 v4438) a + S8x128.size a ≤ S131072x128.size a)
theorem k0_mult575_dvd : ∀ (i : grid0.Coords) (v4438 : BitVec 32) (k0_hw288 : k0_chk288 i v4438), ∀ (k0_h2 : k0_cond2 i = 1#1), 8 ∣ (k0_mult575 v4438).toNat := fun i v4438 k0_hw288 k0_h2 => k0_hw288.1 k0_h2
theorem k0_off1169_inb : ∀ (i : grid0.Coords) (v4438 : BitVec 32) (k0_hw288 : k0_chk288 i v4438), ∀ (k0_h2 : k0_cond2 i = 1#1), ∀ a, (k0_off1169 v4438) a + S8x128.size a ≤ S131072x128.size a := fun i v4438 k0_hw288 k0_h2 => k0_hw288.2 k0_h2

def k0_off1170 (i : grid0.Coords) : Fin 3 → Nat :=
  let c0_2685 : Index := 0#32
  let c0_2686 : Index := 0#32
  let arg1 : BitVec 32 := BitVec.ofNat 32 (i 1).val
  let c2_i32_2680 : BitVec 32 := 2#32
  let v4447 : BitVec 32 := Scalar.muli arg1 c2_i32_2680
  let c1_i32_2681 : BitVec 32 := 1#32
  let v4448 : BitVec 32 := Scalar.addi v4447 c1_i32_2681
  let c256_i32_2682 : BitVec 32 := 256#32
  let v4449 : BitVec 32 := Scalar.muli v4448 c256_i32_2682
  let c31_i32_2683 : BitVec 32 := 31#32
  let v4450 : BitVec 32 := Scalar.addi v4449 c31_i32_2683
  let v4452 : Index := Scalar.indexCast v4450
  ![0, 0, v4452.toNat]
def k0_mult577 (v4453 : BitVec 32) : BitVec 32 :=
  v4453

def k0_mult578 (i : grid0.Coords) : BitVec 32 :=
  let arg1 : BitVec 32 := BitVec.ofNat 32 (i 1).val
  let c2_i32_2680 : BitVec 32 := 2#32
  let v4447 : BitVec 32 := Scalar.muli arg1 c2_i32_2680
  let c1_i32_2681 : BitVec 32 := 1#32
  let v4448 : BitVec 32 := Scalar.addi v4447 c1_i32_2681
  let c256_i32_2682 : BitVec 32 := 256#32
  let v4449 : BitVec 32 := Scalar.muli v4448 c256_i32_2682
  let c31_i32_2683 : BitVec 32 := 31#32
  let v4450 : BitVec 32 := Scalar.addi v4449 c31_i32_2683
  let c8_i32_2687 : BitVec 32 := 8#32
  let v4455 : BitVec 32 := Scalar.muli v4450 c8_i32_2687
  v4455
def k0_off1171 (i : grid0.Coords) : Fin 1 → Nat :=
  let c1_i32_2684 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4451 : BitVec 32 := Scalar.subi c1_i32_2684 v9
  ![v4451.toNat]
def k0_off1172 (i : grid0.Coords) : Fin 3 → Nat :=
  let c1_i32_2684 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4451 : BitVec 32 := Scalar.subi c1_i32_2684 v9
  let arg1 : BitVec 32 := BitVec.ofNat 32 (i 1).val
  let c2_i32_2680 : BitVec 32 := 2#32
  let v4447 : BitVec 32 := Scalar.muli arg1 c2_i32_2680
  let c1_i32_2681 : BitVec 32 := 1#32
  let v4448 : BitVec 32 := Scalar.addi v4447 c1_i32_2681
  let c256_i32_2682 : BitVec 32 := 256#32
  let v4449 : BitVec 32 := Scalar.muli v4448 c256_i32_2682
  let c31_i32_2683 : BitVec 32 := 31#32
  let v4450 : BitVec 32 := Scalar.addi v4449 c31_i32_2683
  let c8_i32_2687 : BitVec 32 := 8#32
  let v4455 : BitVec 32 := Scalar.muli v4450 c8_i32_2687
  let v4456 : BitVec 32 := v4455
  let c0_i32_2688 : BitVec 32 := 0#32
  ![v4451.toNat, v4456.toNat, 0]
def k0_off1173 (v4453 : BitVec 32) : Fin 2 → Nat :=
  let v4454 : BitVec 32 := v4453
  let c0_i32_2689 : BitVec 32 := 0#32
  ![v4454.toNat, 0]

def k0_chk289 (i : grid0.Coords) (v4453 : BitVec 32) : Prop :=
  (∀ (k0_h2 : k0_cond2 i = 1#1), 8 ∣ (k0_mult577 v4453).toNat) ∧
  (∀ (k0_h2 : k0_cond2 i = 1#1), ∀ a, (k0_off1173 v4453) a + S8x128.size a ≤ S131072x128.size a)
theorem k0_mult577_dvd : ∀ (i : grid0.Coords) (v4453 : BitVec 32) (k0_hw289 : k0_chk289 i v4453), ∀ (k0_h2 : k0_cond2 i = 1#1), 8 ∣ (k0_mult577 v4453).toNat := fun i v4453 k0_hw289 k0_h2 => k0_hw289.1 k0_h2
theorem k0_off1173_inb : ∀ (i : grid0.Coords) (v4453 : BitVec 32) (k0_hw289 : k0_chk289 i v4453), ∀ (k0_h2 : k0_cond2 i = 1#1), ∀ a, (k0_off1173 v4453) a + S8x128.size a ≤ S131072x128.size a := fun i v4453 k0_hw289 k0_h2 => k0_hw289.2 k0_h2

def k0_off1174 (i : grid0.Coords) : Fin 3 → Nat :=
  let c0_2695 : Index := 0#32
  let c0_2696 : Index := 0#32
  let arg1 : BitVec 32 := BitVec.ofNat 32 (i 1).val
  let c2_i32_2690 : BitVec 32 := 2#32
  let v4462 : BitVec 32 := Scalar.muli arg1 c2_i32_2690
  let c1_i32_2691 : BitVec 32 := 1#32
  let v4463 : BitVec 32 := Scalar.addi v4462 c1_i32_2691
  let c256_i32_2692 : BitVec 32 := 256#32
  let v4464 : BitVec 32 := Scalar.muli v4463 c256_i32_2692
  let c32_i32_2693 : BitVec 32 := 32#32
  let v4465 : BitVec 32 := Scalar.addi v4464 c32_i32_2693
  let v4467 : Index := Scalar.indexCast v4465
  ![0, 0, v4467.toNat]
def k0_mult579 (v4468 : BitVec 32) : BitVec 32 :=
  v4468

def k0_mult580 (i : grid0.Coords) : BitVec 32 :=
  let arg1 : BitVec 32 := BitVec.ofNat 32 (i 1).val
  let c2_i32_2690 : BitVec 32 := 2#32
  let v4462 : BitVec 32 := Scalar.muli arg1 c2_i32_2690
  let c1_i32_2691 : BitVec 32 := 1#32
  let v4463 : BitVec 32 := Scalar.addi v4462 c1_i32_2691
  let c256_i32_2692 : BitVec 32 := 256#32
  let v4464 : BitVec 32 := Scalar.muli v4463 c256_i32_2692
  let c32_i32_2693 : BitVec 32 := 32#32
  let v4465 : BitVec 32 := Scalar.addi v4464 c32_i32_2693
  let c8_i32_2697 : BitVec 32 := 8#32
  let v4470 : BitVec 32 := Scalar.muli v4465 c8_i32_2697
  v4470
def k0_off1175 (i : grid0.Coords) : Fin 1 → Nat :=
  let c1_i32_2694 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4466 : BitVec 32 := Scalar.subi c1_i32_2694 v9
  ![v4466.toNat]
def k0_off1176 (i : grid0.Coords) : Fin 3 → Nat :=
  let c1_i32_2694 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4466 : BitVec 32 := Scalar.subi c1_i32_2694 v9
  let arg1 : BitVec 32 := BitVec.ofNat 32 (i 1).val
  let c2_i32_2690 : BitVec 32 := 2#32
  let v4462 : BitVec 32 := Scalar.muli arg1 c2_i32_2690
  let c1_i32_2691 : BitVec 32 := 1#32
  let v4463 : BitVec 32 := Scalar.addi v4462 c1_i32_2691
  let c256_i32_2692 : BitVec 32 := 256#32
  let v4464 : BitVec 32 := Scalar.muli v4463 c256_i32_2692
  let c32_i32_2693 : BitVec 32 := 32#32
  let v4465 : BitVec 32 := Scalar.addi v4464 c32_i32_2693
  let c8_i32_2697 : BitVec 32 := 8#32
  let v4470 : BitVec 32 := Scalar.muli v4465 c8_i32_2697
  let v4471 : BitVec 32 := v4470
  let c0_i32_2698 : BitVec 32 := 0#32
  ![v4466.toNat, v4471.toNat, 0]
def k0_off1177 (v4468 : BitVec 32) : Fin 2 → Nat :=
  let v4469 : BitVec 32 := v4468
  let c0_i32_2699 : BitVec 32 := 0#32
  ![v4469.toNat, 0]

def k0_chk290 (i : grid0.Coords) (v4468 : BitVec 32) : Prop :=
  (∀ (k0_h2 : k0_cond2 i = 1#1), 8 ∣ (k0_mult579 v4468).toNat) ∧
  (∀ (k0_h2 : k0_cond2 i = 1#1), ∀ a, (k0_off1177 v4468) a + S8x128.size a ≤ S131072x128.size a)
theorem k0_mult579_dvd : ∀ (i : grid0.Coords) (v4468 : BitVec 32) (k0_hw290 : k0_chk290 i v4468), ∀ (k0_h2 : k0_cond2 i = 1#1), 8 ∣ (k0_mult579 v4468).toNat := fun i v4468 k0_hw290 k0_h2 => k0_hw290.1 k0_h2
theorem k0_off1177_inb : ∀ (i : grid0.Coords) (v4468 : BitVec 32) (k0_hw290 : k0_chk290 i v4468), ∀ (k0_h2 : k0_cond2 i = 1#1), ∀ a, (k0_off1177 v4468) a + S8x128.size a ≤ S131072x128.size a := fun i v4468 k0_hw290 k0_h2 => k0_hw290.2 k0_h2

def k0_off1178 (i : grid0.Coords) : Fin 3 → Nat :=
  let c0_2705 : Index := 0#32
  let c0_2706 : Index := 0#32
  let arg1 : BitVec 32 := BitVec.ofNat 32 (i 1).val
  let c2_i32_2700 : BitVec 32 := 2#32
  let v4477 : BitVec 32 := Scalar.muli arg1 c2_i32_2700
  let c1_i32_2701 : BitVec 32 := 1#32
  let v4478 : BitVec 32 := Scalar.addi v4477 c1_i32_2701
  let c256_i32_2702 : BitVec 32 := 256#32
  let v4479 : BitVec 32 := Scalar.muli v4478 c256_i32_2702
  let c33_i32_2703 : BitVec 32 := 33#32
  let v4480 : BitVec 32 := Scalar.addi v4479 c33_i32_2703
  let v4482 : Index := Scalar.indexCast v4480
  ![0, 0, v4482.toNat]
def k0_mult581 (v4483 : BitVec 32) : BitVec 32 :=
  v4483

def k0_mult582 (i : grid0.Coords) : BitVec 32 :=
  let arg1 : BitVec 32 := BitVec.ofNat 32 (i 1).val
  let c2_i32_2700 : BitVec 32 := 2#32
  let v4477 : BitVec 32 := Scalar.muli arg1 c2_i32_2700
  let c1_i32_2701 : BitVec 32 := 1#32
  let v4478 : BitVec 32 := Scalar.addi v4477 c1_i32_2701
  let c256_i32_2702 : BitVec 32 := 256#32
  let v4479 : BitVec 32 := Scalar.muli v4478 c256_i32_2702
  let c33_i32_2703 : BitVec 32 := 33#32
  let v4480 : BitVec 32 := Scalar.addi v4479 c33_i32_2703
  let c8_i32_2707 : BitVec 32 := 8#32
  let v4485 : BitVec 32 := Scalar.muli v4480 c8_i32_2707
  v4485
def k0_off1179 (i : grid0.Coords) : Fin 1 → Nat :=
  let c1_i32_2704 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4481 : BitVec 32 := Scalar.subi c1_i32_2704 v9
  ![v4481.toNat]
def k0_off1180 (i : grid0.Coords) : Fin 3 → Nat :=
  let c1_i32_2704 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4481 : BitVec 32 := Scalar.subi c1_i32_2704 v9
  let arg1 : BitVec 32 := BitVec.ofNat 32 (i 1).val
  let c2_i32_2700 : BitVec 32 := 2#32
  let v4477 : BitVec 32 := Scalar.muli arg1 c2_i32_2700
  let c1_i32_2701 : BitVec 32 := 1#32
  let v4478 : BitVec 32 := Scalar.addi v4477 c1_i32_2701
  let c256_i32_2702 : BitVec 32 := 256#32
  let v4479 : BitVec 32 := Scalar.muli v4478 c256_i32_2702
  let c33_i32_2703 : BitVec 32 := 33#32
  let v4480 : BitVec 32 := Scalar.addi v4479 c33_i32_2703
  let c8_i32_2707 : BitVec 32 := 8#32
  let v4485 : BitVec 32 := Scalar.muli v4480 c8_i32_2707
  let v4486 : BitVec 32 := v4485
  let c0_i32_2708 : BitVec 32 := 0#32
  ![v4481.toNat, v4486.toNat, 0]
def k0_off1181 (v4483 : BitVec 32) : Fin 2 → Nat :=
  let v4484 : BitVec 32 := v4483
  let c0_i32_2709 : BitVec 32 := 0#32
  ![v4484.toNat, 0]

def k0_chk291 (i : grid0.Coords) (v4483 : BitVec 32) : Prop :=
  (∀ (k0_h2 : k0_cond2 i = 1#1), 8 ∣ (k0_mult581 v4483).toNat) ∧
  (∀ (k0_h2 : k0_cond2 i = 1#1), ∀ a, (k0_off1181 v4483) a + S8x128.size a ≤ S131072x128.size a)
theorem k0_mult581_dvd : ∀ (i : grid0.Coords) (v4483 : BitVec 32) (k0_hw291 : k0_chk291 i v4483), ∀ (k0_h2 : k0_cond2 i = 1#1), 8 ∣ (k0_mult581 v4483).toNat := fun i v4483 k0_hw291 k0_h2 => k0_hw291.1 k0_h2
theorem k0_off1181_inb : ∀ (i : grid0.Coords) (v4483 : BitVec 32) (k0_hw291 : k0_chk291 i v4483), ∀ (k0_h2 : k0_cond2 i = 1#1), ∀ a, (k0_off1181 v4483) a + S8x128.size a ≤ S131072x128.size a := fun i v4483 k0_hw291 k0_h2 => k0_hw291.2 k0_h2

def k0_off1182 (i : grid0.Coords) : Fin 3 → Nat :=
  let c0_2715 : Index := 0#32
  let c0_2716 : Index := 0#32
  let arg1 : BitVec 32 := BitVec.ofNat 32 (i 1).val
  let c2_i32_2710 : BitVec 32 := 2#32
  let v4492 : BitVec 32 := Scalar.muli arg1 c2_i32_2710
  let c1_i32_2711 : BitVec 32 := 1#32
  let v4493 : BitVec 32 := Scalar.addi v4492 c1_i32_2711
  let c256_i32_2712 : BitVec 32 := 256#32
  let v4494 : BitVec 32 := Scalar.muli v4493 c256_i32_2712
  let c34_i32_2713 : BitVec 32 := 34#32
  let v4495 : BitVec 32 := Scalar.addi v4494 c34_i32_2713
  let v4497 : Index := Scalar.indexCast v4495
  ![0, 0, v4497.toNat]
def k0_mult583 (v4498 : BitVec 32) : BitVec 32 :=
  v4498

def k0_mult584 (i : grid0.Coords) : BitVec 32 :=
  let arg1 : BitVec 32 := BitVec.ofNat 32 (i 1).val
  let c2_i32_2710 : BitVec 32 := 2#32
  let v4492 : BitVec 32 := Scalar.muli arg1 c2_i32_2710
  let c1_i32_2711 : BitVec 32 := 1#32
  let v4493 : BitVec 32 := Scalar.addi v4492 c1_i32_2711
  let c256_i32_2712 : BitVec 32 := 256#32
  let v4494 : BitVec 32 := Scalar.muli v4493 c256_i32_2712
  let c34_i32_2713 : BitVec 32 := 34#32
  let v4495 : BitVec 32 := Scalar.addi v4494 c34_i32_2713
  let c8_i32_2717 : BitVec 32 := 8#32
  let v4500 : BitVec 32 := Scalar.muli v4495 c8_i32_2717
  v4500
def k0_off1183 (i : grid0.Coords) : Fin 1 → Nat :=
  let c1_i32_2714 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4496 : BitVec 32 := Scalar.subi c1_i32_2714 v9
  ![v4496.toNat]
def k0_off1184 (i : grid0.Coords) : Fin 3 → Nat :=
  let c1_i32_2714 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4496 : BitVec 32 := Scalar.subi c1_i32_2714 v9
  let arg1 : BitVec 32 := BitVec.ofNat 32 (i 1).val
  let c2_i32_2710 : BitVec 32 := 2#32
  let v4492 : BitVec 32 := Scalar.muli arg1 c2_i32_2710
  let c1_i32_2711 : BitVec 32 := 1#32
  let v4493 : BitVec 32 := Scalar.addi v4492 c1_i32_2711
  let c256_i32_2712 : BitVec 32 := 256#32
  let v4494 : BitVec 32 := Scalar.muli v4493 c256_i32_2712
  let c34_i32_2713 : BitVec 32 := 34#32
  let v4495 : BitVec 32 := Scalar.addi v4494 c34_i32_2713
  let c8_i32_2717 : BitVec 32 := 8#32
  let v4500 : BitVec 32 := Scalar.muli v4495 c8_i32_2717
  let v4501 : BitVec 32 := v4500
  let c0_i32_2718 : BitVec 32 := 0#32
  ![v4496.toNat, v4501.toNat, 0]
def k0_off1185 (v4498 : BitVec 32) : Fin 2 → Nat :=
  let v4499 : BitVec 32 := v4498
  let c0_i32_2719 : BitVec 32 := 0#32
  ![v4499.toNat, 0]

def k0_chk292 (i : grid0.Coords) (v4498 : BitVec 32) : Prop :=
  (∀ (k0_h2 : k0_cond2 i = 1#1), 8 ∣ (k0_mult583 v4498).toNat) ∧
  (∀ (k0_h2 : k0_cond2 i = 1#1), ∀ a, (k0_off1185 v4498) a + S8x128.size a ≤ S131072x128.size a)
theorem k0_mult583_dvd : ∀ (i : grid0.Coords) (v4498 : BitVec 32) (k0_hw292 : k0_chk292 i v4498), ∀ (k0_h2 : k0_cond2 i = 1#1), 8 ∣ (k0_mult583 v4498).toNat := fun i v4498 k0_hw292 k0_h2 => k0_hw292.1 k0_h2
theorem k0_off1185_inb : ∀ (i : grid0.Coords) (v4498 : BitVec 32) (k0_hw292 : k0_chk292 i v4498), ∀ (k0_h2 : k0_cond2 i = 1#1), ∀ a, (k0_off1185 v4498) a + S8x128.size a ≤ S131072x128.size a := fun i v4498 k0_hw292 k0_h2 => k0_hw292.2 k0_h2

def k0_off1186 (i : grid0.Coords) : Fin 3 → Nat :=
  let c0_2725 : Index := 0#32
  let c0_2726 : Index := 0#32
  let arg1 : BitVec 32 := BitVec.ofNat 32 (i 1).val
  let c2_i32_2720 : BitVec 32 := 2#32
  let v4507 : BitVec 32 := Scalar.muli arg1 c2_i32_2720
  let c1_i32_2721 : BitVec 32 := 1#32
  let v4508 : BitVec 32 := Scalar.addi v4507 c1_i32_2721
  let c256_i32_2722 : BitVec 32 := 256#32
  let v4509 : BitVec 32 := Scalar.muli v4508 c256_i32_2722
  let c35_i32_2723 : BitVec 32 := 35#32
  let v4510 : BitVec 32 := Scalar.addi v4509 c35_i32_2723
  let v4512 : Index := Scalar.indexCast v4510
  ![0, 0, v4512.toNat]
def k0_mult585 (v4513 : BitVec 32) : BitVec 32 :=
  v4513

def k0_mult586 (i : grid0.Coords) : BitVec 32 :=
  let arg1 : BitVec 32 := BitVec.ofNat 32 (i 1).val
  let c2_i32_2720 : BitVec 32 := 2#32
  let v4507 : BitVec 32 := Scalar.muli arg1 c2_i32_2720
  let c1_i32_2721 : BitVec 32 := 1#32
  let v4508 : BitVec 32 := Scalar.addi v4507 c1_i32_2721
  let c256_i32_2722 : BitVec 32 := 256#32
  let v4509 : BitVec 32 := Scalar.muli v4508 c256_i32_2722
  let c35_i32_2723 : BitVec 32 := 35#32
  let v4510 : BitVec 32 := Scalar.addi v4509 c35_i32_2723
  let c8_i32_2727 : BitVec 32 := 8#32
  let v4515 : BitVec 32 := Scalar.muli v4510 c8_i32_2727
  v4515
def k0_off1187 (i : grid0.Coords) : Fin 1 → Nat :=
  let c1_i32_2724 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4511 : BitVec 32 := Scalar.subi c1_i32_2724 v9
  ![v4511.toNat]
def k0_off1188 (i : grid0.Coords) : Fin 3 → Nat :=
  let c1_i32_2724 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4511 : BitVec 32 := Scalar.subi c1_i32_2724 v9
  let arg1 : BitVec 32 := BitVec.ofNat 32 (i 1).val
  let c2_i32_2720 : BitVec 32 := 2#32
  let v4507 : BitVec 32 := Scalar.muli arg1 c2_i32_2720
  let c1_i32_2721 : BitVec 32 := 1#32
  let v4508 : BitVec 32 := Scalar.addi v4507 c1_i32_2721
  let c256_i32_2722 : BitVec 32 := 256#32
  let v4509 : BitVec 32 := Scalar.muli v4508 c256_i32_2722
  let c35_i32_2723 : BitVec 32 := 35#32
  let v4510 : BitVec 32 := Scalar.addi v4509 c35_i32_2723
  let c8_i32_2727 : BitVec 32 := 8#32
  let v4515 : BitVec 32 := Scalar.muli v4510 c8_i32_2727
  let v4516 : BitVec 32 := v4515
  let c0_i32_2728 : BitVec 32 := 0#32
  ![v4511.toNat, v4516.toNat, 0]
def k0_off1189 (v4513 : BitVec 32) : Fin 2 → Nat :=
  let v4514 : BitVec 32 := v4513
  let c0_i32_2729 : BitVec 32 := 0#32
  ![v4514.toNat, 0]

def k0_chk293 (i : grid0.Coords) (v4513 : BitVec 32) : Prop :=
  (∀ (k0_h2 : k0_cond2 i = 1#1), 8 ∣ (k0_mult585 v4513).toNat) ∧
  (∀ (k0_h2 : k0_cond2 i = 1#1), ∀ a, (k0_off1189 v4513) a + S8x128.size a ≤ S131072x128.size a)
theorem k0_mult585_dvd : ∀ (i : grid0.Coords) (v4513 : BitVec 32) (k0_hw293 : k0_chk293 i v4513), ∀ (k0_h2 : k0_cond2 i = 1#1), 8 ∣ (k0_mult585 v4513).toNat := fun i v4513 k0_hw293 k0_h2 => k0_hw293.1 k0_h2
theorem k0_off1189_inb : ∀ (i : grid0.Coords) (v4513 : BitVec 32) (k0_hw293 : k0_chk293 i v4513), ∀ (k0_h2 : k0_cond2 i = 1#1), ∀ a, (k0_off1189 v4513) a + S8x128.size a ≤ S131072x128.size a := fun i v4513 k0_hw293 k0_h2 => k0_hw293.2 k0_h2

def k0_off1190 (i : grid0.Coords) : Fin 3 → Nat :=
  let c0_2735 : Index := 0#32
  let c0_2736 : Index := 0#32
  let arg1 : BitVec 32 := BitVec.ofNat 32 (i 1).val
  let c2_i32_2730 : BitVec 32 := 2#32
  let v4522 : BitVec 32 := Scalar.muli arg1 c2_i32_2730
  let c1_i32_2731 : BitVec 32 := 1#32
  let v4523 : BitVec 32 := Scalar.addi v4522 c1_i32_2731
  let c256_i32_2732 : BitVec 32 := 256#32
  let v4524 : BitVec 32 := Scalar.muli v4523 c256_i32_2732
  let c36_i32_2733 : BitVec 32 := 36#32
  let v4525 : BitVec 32 := Scalar.addi v4524 c36_i32_2733
  let v4527 : Index := Scalar.indexCast v4525
  ![0, 0, v4527.toNat]
def k0_mult587 (v4528 : BitVec 32) : BitVec 32 :=
  v4528

def k0_mult588 (i : grid0.Coords) : BitVec 32 :=
  let arg1 : BitVec 32 := BitVec.ofNat 32 (i 1).val
  let c2_i32_2730 : BitVec 32 := 2#32
  let v4522 : BitVec 32 := Scalar.muli arg1 c2_i32_2730
  let c1_i32_2731 : BitVec 32 := 1#32
  let v4523 : BitVec 32 := Scalar.addi v4522 c1_i32_2731
  let c256_i32_2732 : BitVec 32 := 256#32
  let v4524 : BitVec 32 := Scalar.muli v4523 c256_i32_2732
  let c36_i32_2733 : BitVec 32 := 36#32
  let v4525 : BitVec 32 := Scalar.addi v4524 c36_i32_2733
  let c8_i32_2737 : BitVec 32 := 8#32
  let v4530 : BitVec 32 := Scalar.muli v4525 c8_i32_2737
  v4530
def k0_off1191 (i : grid0.Coords) : Fin 1 → Nat :=
  let c1_i32_2734 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4526 : BitVec 32 := Scalar.subi c1_i32_2734 v9
  ![v4526.toNat]
def k0_off1192 (i : grid0.Coords) : Fin 3 → Nat :=
  let c1_i32_2734 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4526 : BitVec 32 := Scalar.subi c1_i32_2734 v9
  let arg1 : BitVec 32 := BitVec.ofNat 32 (i 1).val
  let c2_i32_2730 : BitVec 32 := 2#32
  let v4522 : BitVec 32 := Scalar.muli arg1 c2_i32_2730
  let c1_i32_2731 : BitVec 32 := 1#32
  let v4523 : BitVec 32 := Scalar.addi v4522 c1_i32_2731
  let c256_i32_2732 : BitVec 32 := 256#32
  let v4524 : BitVec 32 := Scalar.muli v4523 c256_i32_2732
  let c36_i32_2733 : BitVec 32 := 36#32
  let v4525 : BitVec 32 := Scalar.addi v4524 c36_i32_2733
  let c8_i32_2737 : BitVec 32 := 8#32
  let v4530 : BitVec 32 := Scalar.muli v4525 c8_i32_2737
  let v4531 : BitVec 32 := v4530
  let c0_i32_2738 : BitVec 32 := 0#32
  ![v4526.toNat, v4531.toNat, 0]
def k0_off1193 (v4528 : BitVec 32) : Fin 2 → Nat :=
  let v4529 : BitVec 32 := v4528
  let c0_i32_2739 : BitVec 32 := 0#32
  ![v4529.toNat, 0]

def k0_chk294 (i : grid0.Coords) (v4528 : BitVec 32) : Prop :=
  (∀ (k0_h2 : k0_cond2 i = 1#1), 8 ∣ (k0_mult587 v4528).toNat) ∧
  (∀ (k0_h2 : k0_cond2 i = 1#1), ∀ a, (k0_off1193 v4528) a + S8x128.size a ≤ S131072x128.size a)
theorem k0_mult587_dvd : ∀ (i : grid0.Coords) (v4528 : BitVec 32) (k0_hw294 : k0_chk294 i v4528), ∀ (k0_h2 : k0_cond2 i = 1#1), 8 ∣ (k0_mult587 v4528).toNat := fun i v4528 k0_hw294 k0_h2 => k0_hw294.1 k0_h2
theorem k0_off1193_inb : ∀ (i : grid0.Coords) (v4528 : BitVec 32) (k0_hw294 : k0_chk294 i v4528), ∀ (k0_h2 : k0_cond2 i = 1#1), ∀ a, (k0_off1193 v4528) a + S8x128.size a ≤ S131072x128.size a := fun i v4528 k0_hw294 k0_h2 => k0_hw294.2 k0_h2

def k0_off1194 (i : grid0.Coords) : Fin 3 → Nat :=
  let c0_2745 : Index := 0#32
  let c0_2746 : Index := 0#32
  let arg1 : BitVec 32 := BitVec.ofNat 32 (i 1).val
  let c2_i32_2740 : BitVec 32 := 2#32
  let v4537 : BitVec 32 := Scalar.muli arg1 c2_i32_2740
  let c1_i32_2741 : BitVec 32 := 1#32
  let v4538 : BitVec 32 := Scalar.addi v4537 c1_i32_2741
  let c256_i32_2742 : BitVec 32 := 256#32
  let v4539 : BitVec 32 := Scalar.muli v4538 c256_i32_2742
  let c37_i32_2743 : BitVec 32 := 37#32
  let v4540 : BitVec 32 := Scalar.addi v4539 c37_i32_2743
  let v4542 : Index := Scalar.indexCast v4540
  ![0, 0, v4542.toNat]
def k0_mult589 (v4543 : BitVec 32) : BitVec 32 :=
  v4543

def k0_mult590 (i : grid0.Coords) : BitVec 32 :=
  let arg1 : BitVec 32 := BitVec.ofNat 32 (i 1).val
  let c2_i32_2740 : BitVec 32 := 2#32
  let v4537 : BitVec 32 := Scalar.muli arg1 c2_i32_2740
  let c1_i32_2741 : BitVec 32 := 1#32
  let v4538 : BitVec 32 := Scalar.addi v4537 c1_i32_2741
  let c256_i32_2742 : BitVec 32 := 256#32
  let v4539 : BitVec 32 := Scalar.muli v4538 c256_i32_2742
  let c37_i32_2743 : BitVec 32 := 37#32
  let v4540 : BitVec 32 := Scalar.addi v4539 c37_i32_2743
  let c8_i32_2747 : BitVec 32 := 8#32
  let v4545 : BitVec 32 := Scalar.muli v4540 c8_i32_2747
  v4545
def k0_off1195 (i : grid0.Coords) : Fin 1 → Nat :=
  let c1_i32_2744 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4541 : BitVec 32 := Scalar.subi c1_i32_2744 v9
  ![v4541.toNat]
def k0_off1196 (i : grid0.Coords) : Fin 3 → Nat :=
  let c1_i32_2744 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4541 : BitVec 32 := Scalar.subi c1_i32_2744 v9
  let arg1 : BitVec 32 := BitVec.ofNat 32 (i 1).val
  let c2_i32_2740 : BitVec 32 := 2#32
  let v4537 : BitVec 32 := Scalar.muli arg1 c2_i32_2740
  let c1_i32_2741 : BitVec 32 := 1#32
  let v4538 : BitVec 32 := Scalar.addi v4537 c1_i32_2741
  let c256_i32_2742 : BitVec 32 := 256#32
  let v4539 : BitVec 32 := Scalar.muli v4538 c256_i32_2742
  let c37_i32_2743 : BitVec 32 := 37#32
  let v4540 : BitVec 32 := Scalar.addi v4539 c37_i32_2743
  let c8_i32_2747 : BitVec 32 := 8#32
  let v4545 : BitVec 32 := Scalar.muli v4540 c8_i32_2747
  let v4546 : BitVec 32 := v4545
  let c0_i32_2748 : BitVec 32 := 0#32
  ![v4541.toNat, v4546.toNat, 0]
def k0_off1197 (v4543 : BitVec 32) : Fin 2 → Nat :=
  let v4544 : BitVec 32 := v4543
  let c0_i32_2749 : BitVec 32 := 0#32
  ![v4544.toNat, 0]

def k0_chk295 (i : grid0.Coords) (v4543 : BitVec 32) : Prop :=
  (∀ (k0_h2 : k0_cond2 i = 1#1), 8 ∣ (k0_mult589 v4543).toNat) ∧
  (∀ (k0_h2 : k0_cond2 i = 1#1), ∀ a, (k0_off1197 v4543) a + S8x128.size a ≤ S131072x128.size a)
theorem k0_mult589_dvd : ∀ (i : grid0.Coords) (v4543 : BitVec 32) (k0_hw295 : k0_chk295 i v4543), ∀ (k0_h2 : k0_cond2 i = 1#1), 8 ∣ (k0_mult589 v4543).toNat := fun i v4543 k0_hw295 k0_h2 => k0_hw295.1 k0_h2
theorem k0_off1197_inb : ∀ (i : grid0.Coords) (v4543 : BitVec 32) (k0_hw295 : k0_chk295 i v4543), ∀ (k0_h2 : k0_cond2 i = 1#1), ∀ a, (k0_off1197 v4543) a + S8x128.size a ≤ S131072x128.size a := fun i v4543 k0_hw295 k0_h2 => k0_hw295.2 k0_h2

def k0_off1198 (i : grid0.Coords) : Fin 3 → Nat :=
  let c0_2755 : Index := 0#32
  let c0_2756 : Index := 0#32
  let arg1 : BitVec 32 := BitVec.ofNat 32 (i 1).val
  let c2_i32_2750 : BitVec 32 := 2#32
  let v4552 : BitVec 32 := Scalar.muli arg1 c2_i32_2750
  let c1_i32_2751 : BitVec 32 := 1#32
  let v4553 : BitVec 32 := Scalar.addi v4552 c1_i32_2751
  let c256_i32_2752 : BitVec 32 := 256#32
  let v4554 : BitVec 32 := Scalar.muli v4553 c256_i32_2752
  let c38_i32_2753 : BitVec 32 := 38#32
  let v4555 : BitVec 32 := Scalar.addi v4554 c38_i32_2753
  let v4557 : Index := Scalar.indexCast v4555
  ![0, 0, v4557.toNat]
def k0_mult591 (v4558 : BitVec 32) : BitVec 32 :=
  v4558

def k0_mult592 (i : grid0.Coords) : BitVec 32 :=
  let arg1 : BitVec 32 := BitVec.ofNat 32 (i 1).val
  let c2_i32_2750 : BitVec 32 := 2#32
  let v4552 : BitVec 32 := Scalar.muli arg1 c2_i32_2750
  let c1_i32_2751 : BitVec 32 := 1#32
  let v4553 : BitVec 32 := Scalar.addi v4552 c1_i32_2751
  let c256_i32_2752 : BitVec 32 := 256#32
  let v4554 : BitVec 32 := Scalar.muli v4553 c256_i32_2752
  let c38_i32_2753 : BitVec 32 := 38#32
  let v4555 : BitVec 32 := Scalar.addi v4554 c38_i32_2753
  let c8_i32_2757 : BitVec 32 := 8#32
  let v4560 : BitVec 32 := Scalar.muli v4555 c8_i32_2757
  v4560
def k0_off1199 (i : grid0.Coords) : Fin 1 → Nat :=
  let c1_i32_2754 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4556 : BitVec 32 := Scalar.subi c1_i32_2754 v9
  ![v4556.toNat]
def k0_off1200 (i : grid0.Coords) : Fin 3 → Nat :=
  let c1_i32_2754 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4556 : BitVec 32 := Scalar.subi c1_i32_2754 v9
  let arg1 : BitVec 32 := BitVec.ofNat 32 (i 1).val
  let c2_i32_2750 : BitVec 32 := 2#32
  let v4552 : BitVec 32 := Scalar.muli arg1 c2_i32_2750
  let c1_i32_2751 : BitVec 32 := 1#32
  let v4553 : BitVec 32 := Scalar.addi v4552 c1_i32_2751
  let c256_i32_2752 : BitVec 32 := 256#32
  let v4554 : BitVec 32 := Scalar.muli v4553 c256_i32_2752
  let c38_i32_2753 : BitVec 32 := 38#32
  let v4555 : BitVec 32 := Scalar.addi v4554 c38_i32_2753
  let c8_i32_2757 : BitVec 32 := 8#32
  let v4560 : BitVec 32 := Scalar.muli v4555 c8_i32_2757
  let v4561 : BitVec 32 := v4560
  let c0_i32_2758 : BitVec 32 := 0#32
  ![v4556.toNat, v4561.toNat, 0]
def k0_off1201 (v4558 : BitVec 32) : Fin 2 → Nat :=
  let v4559 : BitVec 32 := v4558
  let c0_i32_2759 : BitVec 32 := 0#32
  ![v4559.toNat, 0]

def k0_chk296 (i : grid0.Coords) (v4558 : BitVec 32) : Prop :=
  (∀ (k0_h2 : k0_cond2 i = 1#1), 8 ∣ (k0_mult591 v4558).toNat) ∧
  (∀ (k0_h2 : k0_cond2 i = 1#1), ∀ a, (k0_off1201 v4558) a + S8x128.size a ≤ S131072x128.size a)
theorem k0_mult591_dvd : ∀ (i : grid0.Coords) (v4558 : BitVec 32) (k0_hw296 : k0_chk296 i v4558), ∀ (k0_h2 : k0_cond2 i = 1#1), 8 ∣ (k0_mult591 v4558).toNat := fun i v4558 k0_hw296 k0_h2 => k0_hw296.1 k0_h2
theorem k0_off1201_inb : ∀ (i : grid0.Coords) (v4558 : BitVec 32) (k0_hw296 : k0_chk296 i v4558), ∀ (k0_h2 : k0_cond2 i = 1#1), ∀ a, (k0_off1201 v4558) a + S8x128.size a ≤ S131072x128.size a := fun i v4558 k0_hw296 k0_h2 => k0_hw296.2 k0_h2

def k0_off1202 (i : grid0.Coords) : Fin 3 → Nat :=
  let c0_2765 : Index := 0#32
  let c0_2766 : Index := 0#32
  let arg1 : BitVec 32 := BitVec.ofNat 32 (i 1).val
  let c2_i32_2760 : BitVec 32 := 2#32
  let v4567 : BitVec 32 := Scalar.muli arg1 c2_i32_2760
  let c1_i32_2761 : BitVec 32 := 1#32
  let v4568 : BitVec 32 := Scalar.addi v4567 c1_i32_2761
  let c256_i32_2762 : BitVec 32 := 256#32
  let v4569 : BitVec 32 := Scalar.muli v4568 c256_i32_2762
  let c39_i32_2763 : BitVec 32 := 39#32
  let v4570 : BitVec 32 := Scalar.addi v4569 c39_i32_2763
  let v4572 : Index := Scalar.indexCast v4570
  ![0, 0, v4572.toNat]
def k0_mult593 (v4573 : BitVec 32) : BitVec 32 :=
  v4573

def k0_mult594 (i : grid0.Coords) : BitVec 32 :=
  let arg1 : BitVec 32 := BitVec.ofNat 32 (i 1).val
  let c2_i32_2760 : BitVec 32 := 2#32
  let v4567 : BitVec 32 := Scalar.muli arg1 c2_i32_2760
  let c1_i32_2761 : BitVec 32 := 1#32
  let v4568 : BitVec 32 := Scalar.addi v4567 c1_i32_2761
  let c256_i32_2762 : BitVec 32 := 256#32
  let v4569 : BitVec 32 := Scalar.muli v4568 c256_i32_2762
  let c39_i32_2763 : BitVec 32 := 39#32
  let v4570 : BitVec 32 := Scalar.addi v4569 c39_i32_2763
  let c8_i32_2767 : BitVec 32 := 8#32
  let v4575 : BitVec 32 := Scalar.muli v4570 c8_i32_2767
  v4575
def k0_off1203 (i : grid0.Coords) : Fin 1 → Nat :=
  let c1_i32_2764 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4571 : BitVec 32 := Scalar.subi c1_i32_2764 v9
  ![v4571.toNat]
def k0_off1204 (i : grid0.Coords) : Fin 3 → Nat :=
  let c1_i32_2764 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4571 : BitVec 32 := Scalar.subi c1_i32_2764 v9
  let arg1 : BitVec 32 := BitVec.ofNat 32 (i 1).val
  let c2_i32_2760 : BitVec 32 := 2#32
  let v4567 : BitVec 32 := Scalar.muli arg1 c2_i32_2760
  let c1_i32_2761 : BitVec 32 := 1#32
  let v4568 : BitVec 32 := Scalar.addi v4567 c1_i32_2761
  let c256_i32_2762 : BitVec 32 := 256#32
  let v4569 : BitVec 32 := Scalar.muli v4568 c256_i32_2762
  let c39_i32_2763 : BitVec 32 := 39#32
  let v4570 : BitVec 32 := Scalar.addi v4569 c39_i32_2763
  let c8_i32_2767 : BitVec 32 := 8#32
  let v4575 : BitVec 32 := Scalar.muli v4570 c8_i32_2767
  let v4576 : BitVec 32 := v4575
  let c0_i32_2768 : BitVec 32 := 0#32
  ![v4571.toNat, v4576.toNat, 0]
def k0_off1205 (v4573 : BitVec 32) : Fin 2 → Nat :=
  let v4574 : BitVec 32 := v4573
  let c0_i32_2769 : BitVec 32 := 0#32
  ![v4574.toNat, 0]

def k0_chk297 (i : grid0.Coords) (v4573 : BitVec 32) : Prop :=
  (∀ (k0_h2 : k0_cond2 i = 1#1), 8 ∣ (k0_mult593 v4573).toNat) ∧
  (∀ (k0_h2 : k0_cond2 i = 1#1), ∀ a, (k0_off1205 v4573) a + S8x128.size a ≤ S131072x128.size a)
theorem k0_mult593_dvd : ∀ (i : grid0.Coords) (v4573 : BitVec 32) (k0_hw297 : k0_chk297 i v4573), ∀ (k0_h2 : k0_cond2 i = 1#1), 8 ∣ (k0_mult593 v4573).toNat := fun i v4573 k0_hw297 k0_h2 => k0_hw297.1 k0_h2
theorem k0_off1205_inb : ∀ (i : grid0.Coords) (v4573 : BitVec 32) (k0_hw297 : k0_chk297 i v4573), ∀ (k0_h2 : k0_cond2 i = 1#1), ∀ a, (k0_off1205 v4573) a + S8x128.size a ≤ S131072x128.size a := fun i v4573 k0_hw297 k0_h2 => k0_hw297.2 k0_h2

def k0_off1206 (i : grid0.Coords) : Fin 3 → Nat :=
  let c0_2775 : Index := 0#32
  let c0_2776 : Index := 0#32
  let arg1 : BitVec 32 := BitVec.ofNat 32 (i 1).val
  let c2_i32_2770 : BitVec 32 := 2#32
  let v4582 : BitVec 32 := Scalar.muli arg1 c2_i32_2770
  let c1_i32_2771 : BitVec 32 := 1#32
  let v4583 : BitVec 32 := Scalar.addi v4582 c1_i32_2771
  let c256_i32_2772 : BitVec 32 := 256#32
  let v4584 : BitVec 32 := Scalar.muli v4583 c256_i32_2772
  let c40_i32_2773 : BitVec 32 := 40#32
  let v4585 : BitVec 32 := Scalar.addi v4584 c40_i32_2773
  let v4587 : Index := Scalar.indexCast v4585
  ![0, 0, v4587.toNat]
def k0_mult595 (v4588 : BitVec 32) : BitVec 32 :=
  v4588

def k0_mult596 (i : grid0.Coords) : BitVec 32 :=
  let arg1 : BitVec 32 := BitVec.ofNat 32 (i 1).val
  let c2_i32_2770 : BitVec 32 := 2#32
  let v4582 : BitVec 32 := Scalar.muli arg1 c2_i32_2770
  let c1_i32_2771 : BitVec 32 := 1#32
  let v4583 : BitVec 32 := Scalar.addi v4582 c1_i32_2771
  let c256_i32_2772 : BitVec 32 := 256#32
  let v4584 : BitVec 32 := Scalar.muli v4583 c256_i32_2772
  let c40_i32_2773 : BitVec 32 := 40#32
  let v4585 : BitVec 32 := Scalar.addi v4584 c40_i32_2773
  let c8_i32_2777 : BitVec 32 := 8#32
  let v4590 : BitVec 32 := Scalar.muli v4585 c8_i32_2777
  v4590
def k0_off1207 (i : grid0.Coords) : Fin 1 → Nat :=
  let c1_i32_2774 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4586 : BitVec 32 := Scalar.subi c1_i32_2774 v9
  ![v4586.toNat]
def k0_off1208 (i : grid0.Coords) : Fin 3 → Nat :=
  let c1_i32_2774 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4586 : BitVec 32 := Scalar.subi c1_i32_2774 v9
  let arg1 : BitVec 32 := BitVec.ofNat 32 (i 1).val
  let c2_i32_2770 : BitVec 32 := 2#32
  let v4582 : BitVec 32 := Scalar.muli arg1 c2_i32_2770
  let c1_i32_2771 : BitVec 32 := 1#32
  let v4583 : BitVec 32 := Scalar.addi v4582 c1_i32_2771
  let c256_i32_2772 : BitVec 32 := 256#32
  let v4584 : BitVec 32 := Scalar.muli v4583 c256_i32_2772
  let c40_i32_2773 : BitVec 32 := 40#32
  let v4585 : BitVec 32 := Scalar.addi v4584 c40_i32_2773
  let c8_i32_2777 : BitVec 32 := 8#32
  let v4590 : BitVec 32 := Scalar.muli v4585 c8_i32_2777
  let v4591 : BitVec 32 := v4590
  let c0_i32_2778 : BitVec 32 := 0#32
  ![v4586.toNat, v4591.toNat, 0]
def k0_off1209 (v4588 : BitVec 32) : Fin 2 → Nat :=
  let v4589 : BitVec 32 := v4588
  let c0_i32_2779 : BitVec 32 := 0#32
  ![v4589.toNat, 0]

def k0_chk298 (i : grid0.Coords) (v4588 : BitVec 32) : Prop :=
  (∀ (k0_h2 : k0_cond2 i = 1#1), 8 ∣ (k0_mult595 v4588).toNat) ∧
  (∀ (k0_h2 : k0_cond2 i = 1#1), ∀ a, (k0_off1209 v4588) a + S8x128.size a ≤ S131072x128.size a)
theorem k0_mult595_dvd : ∀ (i : grid0.Coords) (v4588 : BitVec 32) (k0_hw298 : k0_chk298 i v4588), ∀ (k0_h2 : k0_cond2 i = 1#1), 8 ∣ (k0_mult595 v4588).toNat := fun i v4588 k0_hw298 k0_h2 => k0_hw298.1 k0_h2
theorem k0_off1209_inb : ∀ (i : grid0.Coords) (v4588 : BitVec 32) (k0_hw298 : k0_chk298 i v4588), ∀ (k0_h2 : k0_cond2 i = 1#1), ∀ a, (k0_off1209 v4588) a + S8x128.size a ≤ S131072x128.size a := fun i v4588 k0_hw298 k0_h2 => k0_hw298.2 k0_h2

def k0_off1210 (i : grid0.Coords) : Fin 3 → Nat :=
  let c0_2785 : Index := 0#32
  let c0_2786 : Index := 0#32
  let arg1 : BitVec 32 := BitVec.ofNat 32 (i 1).val
  let c2_i32_2780 : BitVec 32 := 2#32
  let v4597 : BitVec 32 := Scalar.muli arg1 c2_i32_2780
  let c1_i32_2781 : BitVec 32 := 1#32
  let v4598 : BitVec 32 := Scalar.addi v4597 c1_i32_2781
  let c256_i32_2782 : BitVec 32 := 256#32
  let v4599 : BitVec 32 := Scalar.muli v4598 c256_i32_2782
  let c41_i32_2783 : BitVec 32 := 41#32
  let v4600 : BitVec 32 := Scalar.addi v4599 c41_i32_2783
  let v4602 : Index := Scalar.indexCast v4600
  ![0, 0, v4602.toNat]
def k0_mult597 (v4603 : BitVec 32) : BitVec 32 :=
  v4603

def k0_mult598 (i : grid0.Coords) : BitVec 32 :=
  let arg1 : BitVec 32 := BitVec.ofNat 32 (i 1).val
  let c2_i32_2780 : BitVec 32 := 2#32
  let v4597 : BitVec 32 := Scalar.muli arg1 c2_i32_2780
  let c1_i32_2781 : BitVec 32 := 1#32
  let v4598 : BitVec 32 := Scalar.addi v4597 c1_i32_2781
  let c256_i32_2782 : BitVec 32 := 256#32
  let v4599 : BitVec 32 := Scalar.muli v4598 c256_i32_2782
  let c41_i32_2783 : BitVec 32 := 41#32
  let v4600 : BitVec 32 := Scalar.addi v4599 c41_i32_2783
  let c8_i32_2787 : BitVec 32 := 8#32
  let v4605 : BitVec 32 := Scalar.muli v4600 c8_i32_2787
  v4605
def k0_off1211 (i : grid0.Coords) : Fin 1 → Nat :=
  let c1_i32_2784 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4601 : BitVec 32 := Scalar.subi c1_i32_2784 v9
  ![v4601.toNat]
def k0_off1212 (i : grid0.Coords) : Fin 3 → Nat :=
  let c1_i32_2784 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4601 : BitVec 32 := Scalar.subi c1_i32_2784 v9
  let arg1 : BitVec 32 := BitVec.ofNat 32 (i 1).val
  let c2_i32_2780 : BitVec 32 := 2#32
  let v4597 : BitVec 32 := Scalar.muli arg1 c2_i32_2780
  let c1_i32_2781 : BitVec 32 := 1#32
  let v4598 : BitVec 32 := Scalar.addi v4597 c1_i32_2781
  let c256_i32_2782 : BitVec 32 := 256#32
  let v4599 : BitVec 32 := Scalar.muli v4598 c256_i32_2782
  let c41_i32_2783 : BitVec 32 := 41#32
  let v4600 : BitVec 32 := Scalar.addi v4599 c41_i32_2783
  let c8_i32_2787 : BitVec 32 := 8#32
  let v4605 : BitVec 32 := Scalar.muli v4600 c8_i32_2787
  let v4606 : BitVec 32 := v4605
  let c0_i32_2788 : BitVec 32 := 0#32
  ![v4601.toNat, v4606.toNat, 0]
def k0_off1213 (v4603 : BitVec 32) : Fin 2 → Nat :=
  let v4604 : BitVec 32 := v4603
  let c0_i32_2789 : BitVec 32 := 0#32
  ![v4604.toNat, 0]

def k0_chk299 (i : grid0.Coords) (v4603 : BitVec 32) : Prop :=
  (∀ (k0_h2 : k0_cond2 i = 1#1), 8 ∣ (k0_mult597 v4603).toNat) ∧
  (∀ (k0_h2 : k0_cond2 i = 1#1), ∀ a, (k0_off1213 v4603) a + S8x128.size a ≤ S131072x128.size a)
theorem k0_mult597_dvd : ∀ (i : grid0.Coords) (v4603 : BitVec 32) (k0_hw299 : k0_chk299 i v4603), ∀ (k0_h2 : k0_cond2 i = 1#1), 8 ∣ (k0_mult597 v4603).toNat := fun i v4603 k0_hw299 k0_h2 => k0_hw299.1 k0_h2
theorem k0_off1213_inb : ∀ (i : grid0.Coords) (v4603 : BitVec 32) (k0_hw299 : k0_chk299 i v4603), ∀ (k0_h2 : k0_cond2 i = 1#1), ∀ a, (k0_off1213 v4603) a + S8x128.size a ≤ S131072x128.size a := fun i v4603 k0_hw299 k0_h2 => k0_hw299.2 k0_h2

def k0_off1214 (i : grid0.Coords) : Fin 3 → Nat :=
  let c0_2795 : Index := 0#32
  let c0_2796 : Index := 0#32
  let arg1 : BitVec 32 := BitVec.ofNat 32 (i 1).val
  let c2_i32_2790 : BitVec 32 := 2#32
  let v4612 : BitVec 32 := Scalar.muli arg1 c2_i32_2790
  let c1_i32_2791 : BitVec 32 := 1#32
  let v4613 : BitVec 32 := Scalar.addi v4612 c1_i32_2791
  let c256_i32_2792 : BitVec 32 := 256#32
  let v4614 : BitVec 32 := Scalar.muli v4613 c256_i32_2792
  let c42_i32_2793 : BitVec 32 := 42#32
  let v4615 : BitVec 32 := Scalar.addi v4614 c42_i32_2793
  let v4617 : Index := Scalar.indexCast v4615
  ![0, 0, v4617.toNat]
def k0_mult599 (v4618 : BitVec 32) : BitVec 32 :=
  v4618

def k0_mult600 (i : grid0.Coords) : BitVec 32 :=
  let arg1 : BitVec 32 := BitVec.ofNat 32 (i 1).val
  let c2_i32_2790 : BitVec 32 := 2#32
  let v4612 : BitVec 32 := Scalar.muli arg1 c2_i32_2790
  let c1_i32_2791 : BitVec 32 := 1#32
  let v4613 : BitVec 32 := Scalar.addi v4612 c1_i32_2791
  let c256_i32_2792 : BitVec 32 := 256#32
  let v4614 : BitVec 32 := Scalar.muli v4613 c256_i32_2792
  let c42_i32_2793 : BitVec 32 := 42#32
  let v4615 : BitVec 32 := Scalar.addi v4614 c42_i32_2793
  let c8_i32_2797 : BitVec 32 := 8#32
  let v4620 : BitVec 32 := Scalar.muli v4615 c8_i32_2797
  v4620
def k0_off1215 (i : grid0.Coords) : Fin 1 → Nat :=
  let c1_i32_2794 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4616 : BitVec 32 := Scalar.subi c1_i32_2794 v9
  ![v4616.toNat]
def k0_off1216 (i : grid0.Coords) : Fin 3 → Nat :=
  let c1_i32_2794 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4616 : BitVec 32 := Scalar.subi c1_i32_2794 v9
  let arg1 : BitVec 32 := BitVec.ofNat 32 (i 1).val
  let c2_i32_2790 : BitVec 32 := 2#32
  let v4612 : BitVec 32 := Scalar.muli arg1 c2_i32_2790
  let c1_i32_2791 : BitVec 32 := 1#32
  let v4613 : BitVec 32 := Scalar.addi v4612 c1_i32_2791
  let c256_i32_2792 : BitVec 32 := 256#32
  let v4614 : BitVec 32 := Scalar.muli v4613 c256_i32_2792
  let c42_i32_2793 : BitVec 32 := 42#32
  let v4615 : BitVec 32 := Scalar.addi v4614 c42_i32_2793
  let c8_i32_2797 : BitVec 32 := 8#32
  let v4620 : BitVec 32 := Scalar.muli v4615 c8_i32_2797
  let v4621 : BitVec 32 := v4620
  let c0_i32_2798 : BitVec 32 := 0#32
  ![v4616.toNat, v4621.toNat, 0]
def k0_off1217 (v4618 : BitVec 32) : Fin 2 → Nat :=
  let v4619 : BitVec 32 := v4618
  let c0_i32_2799 : BitVec 32 := 0#32
  ![v4619.toNat, 0]

def k0_chk300 (i : grid0.Coords) (v4618 : BitVec 32) : Prop :=
  (∀ (k0_h2 : k0_cond2 i = 1#1), 8 ∣ (k0_mult599 v4618).toNat) ∧
  (∀ (k0_h2 : k0_cond2 i = 1#1), ∀ a, (k0_off1217 v4618) a + S8x128.size a ≤ S131072x128.size a)
theorem k0_mult599_dvd : ∀ (i : grid0.Coords) (v4618 : BitVec 32) (k0_hw300 : k0_chk300 i v4618), ∀ (k0_h2 : k0_cond2 i = 1#1), 8 ∣ (k0_mult599 v4618).toNat := fun i v4618 k0_hw300 k0_h2 => k0_hw300.1 k0_h2
theorem k0_off1217_inb : ∀ (i : grid0.Coords) (v4618 : BitVec 32) (k0_hw300 : k0_chk300 i v4618), ∀ (k0_h2 : k0_cond2 i = 1#1), ∀ a, (k0_off1217 v4618) a + S8x128.size a ≤ S131072x128.size a := fun i v4618 k0_hw300 k0_h2 => k0_hw300.2 k0_h2

def k0_off1218 (i : grid0.Coords) : Fin 3 → Nat :=
  let c0_2805 : Index := 0#32
  let c0_2806 : Index := 0#32
  let arg1 : BitVec 32 := BitVec.ofNat 32 (i 1).val
  let c2_i32_2800 : BitVec 32 := 2#32
  let v4627 : BitVec 32 := Scalar.muli arg1 c2_i32_2800
  let c1_i32_2801 : BitVec 32 := 1#32
  let v4628 : BitVec 32 := Scalar.addi v4627 c1_i32_2801
  let c256_i32_2802 : BitVec 32 := 256#32
  let v4629 : BitVec 32 := Scalar.muli v4628 c256_i32_2802
  let c43_i32_2803 : BitVec 32 := 43#32
  let v4630 : BitVec 32 := Scalar.addi v4629 c43_i32_2803
  let v4632 : Index := Scalar.indexCast v4630
  ![0, 0, v4632.toNat]
def k0_mult601 (v4633 : BitVec 32) : BitVec 32 :=
  v4633

def k0_mult602 (i : grid0.Coords) : BitVec 32 :=
  let arg1 : BitVec 32 := BitVec.ofNat 32 (i 1).val
  let c2_i32_2800 : BitVec 32 := 2#32
  let v4627 : BitVec 32 := Scalar.muli arg1 c2_i32_2800
  let c1_i32_2801 : BitVec 32 := 1#32
  let v4628 : BitVec 32 := Scalar.addi v4627 c1_i32_2801
  let c256_i32_2802 : BitVec 32 := 256#32
  let v4629 : BitVec 32 := Scalar.muli v4628 c256_i32_2802
  let c43_i32_2803 : BitVec 32 := 43#32
  let v4630 : BitVec 32 := Scalar.addi v4629 c43_i32_2803
  let c8_i32_2807 : BitVec 32 := 8#32
  let v4635 : BitVec 32 := Scalar.muli v4630 c8_i32_2807
  v4635
def k0_off1219 (i : grid0.Coords) : Fin 1 → Nat :=
  let c1_i32_2804 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4631 : BitVec 32 := Scalar.subi c1_i32_2804 v9
  ![v4631.toNat]
def k0_off1220 (i : grid0.Coords) : Fin 3 → Nat :=
  let c1_i32_2804 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4631 : BitVec 32 := Scalar.subi c1_i32_2804 v9
  let arg1 : BitVec 32 := BitVec.ofNat 32 (i 1).val
  let c2_i32_2800 : BitVec 32 := 2#32
  let v4627 : BitVec 32 := Scalar.muli arg1 c2_i32_2800
  let c1_i32_2801 : BitVec 32 := 1#32
  let v4628 : BitVec 32 := Scalar.addi v4627 c1_i32_2801
  let c256_i32_2802 : BitVec 32 := 256#32
  let v4629 : BitVec 32 := Scalar.muli v4628 c256_i32_2802
  let c43_i32_2803 : BitVec 32 := 43#32
  let v4630 : BitVec 32 := Scalar.addi v4629 c43_i32_2803
  let c8_i32_2807 : BitVec 32 := 8#32
  let v4635 : BitVec 32 := Scalar.muli v4630 c8_i32_2807
  let v4636 : BitVec 32 := v4635
  let c0_i32_2808 : BitVec 32 := 0#32
  ![v4631.toNat, v4636.toNat, 0]
def k0_off1221 (v4633 : BitVec 32) : Fin 2 → Nat :=
  let v4634 : BitVec 32 := v4633
  let c0_i32_2809 : BitVec 32 := 0#32
  ![v4634.toNat, 0]

def k0_chk301 (i : grid0.Coords) (v4633 : BitVec 32) : Prop :=
  (∀ (k0_h2 : k0_cond2 i = 1#1), 8 ∣ (k0_mult601 v4633).toNat) ∧
  (∀ (k0_h2 : k0_cond2 i = 1#1), ∀ a, (k0_off1221 v4633) a + S8x128.size a ≤ S131072x128.size a)
theorem k0_mult601_dvd : ∀ (i : grid0.Coords) (v4633 : BitVec 32) (k0_hw301 : k0_chk301 i v4633), ∀ (k0_h2 : k0_cond2 i = 1#1), 8 ∣ (k0_mult601 v4633).toNat := fun i v4633 k0_hw301 k0_h2 => k0_hw301.1 k0_h2
theorem k0_off1221_inb : ∀ (i : grid0.Coords) (v4633 : BitVec 32) (k0_hw301 : k0_chk301 i v4633), ∀ (k0_h2 : k0_cond2 i = 1#1), ∀ a, (k0_off1221 v4633) a + S8x128.size a ≤ S131072x128.size a := fun i v4633 k0_hw301 k0_h2 => k0_hw301.2 k0_h2

def k0_off1222 (i : grid0.Coords) : Fin 3 → Nat :=
  let c0_2815 : Index := 0#32
  let c0_2816 : Index := 0#32
  let arg1 : BitVec 32 := BitVec.ofNat 32 (i 1).val
  let c2_i32_2810 : BitVec 32 := 2#32
  let v4642 : BitVec 32 := Scalar.muli arg1 c2_i32_2810
  let c1_i32_2811 : BitVec 32 := 1#32
  let v4643 : BitVec 32 := Scalar.addi v4642 c1_i32_2811
  let c256_i32_2812 : BitVec 32 := 256#32
  let v4644 : BitVec 32 := Scalar.muli v4643 c256_i32_2812
  let c44_i32_2813 : BitVec 32 := 44#32
  let v4645 : BitVec 32 := Scalar.addi v4644 c44_i32_2813
  let v4647 : Index := Scalar.indexCast v4645
  ![0, 0, v4647.toNat]
def k0_mult603 (v4648 : BitVec 32) : BitVec 32 :=
  v4648

def k0_mult604 (i : grid0.Coords) : BitVec 32 :=
  let arg1 : BitVec 32 := BitVec.ofNat 32 (i 1).val
  let c2_i32_2810 : BitVec 32 := 2#32
  let v4642 : BitVec 32 := Scalar.muli arg1 c2_i32_2810
  let c1_i32_2811 : BitVec 32 := 1#32
  let v4643 : BitVec 32 := Scalar.addi v4642 c1_i32_2811
  let c256_i32_2812 : BitVec 32 := 256#32
  let v4644 : BitVec 32 := Scalar.muli v4643 c256_i32_2812
  let c44_i32_2813 : BitVec 32 := 44#32
  let v4645 : BitVec 32 := Scalar.addi v4644 c44_i32_2813
  let c8_i32_2817 : BitVec 32 := 8#32
  let v4650 : BitVec 32 := Scalar.muli v4645 c8_i32_2817
  v4650
def k0_off1223 (i : grid0.Coords) : Fin 1 → Nat :=
  let c1_i32_2814 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4646 : BitVec 32 := Scalar.subi c1_i32_2814 v9
  ![v4646.toNat]
def k0_off1224 (i : grid0.Coords) : Fin 3 → Nat :=
  let c1_i32_2814 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4646 : BitVec 32 := Scalar.subi c1_i32_2814 v9
  let arg1 : BitVec 32 := BitVec.ofNat 32 (i 1).val
  let c2_i32_2810 : BitVec 32 := 2#32
  let v4642 : BitVec 32 := Scalar.muli arg1 c2_i32_2810
  let c1_i32_2811 : BitVec 32 := 1#32
  let v4643 : BitVec 32 := Scalar.addi v4642 c1_i32_2811
  let c256_i32_2812 : BitVec 32 := 256#32
  let v4644 : BitVec 32 := Scalar.muli v4643 c256_i32_2812
  let c44_i32_2813 : BitVec 32 := 44#32
  let v4645 : BitVec 32 := Scalar.addi v4644 c44_i32_2813
  let c8_i32_2817 : BitVec 32 := 8#32
  let v4650 : BitVec 32 := Scalar.muli v4645 c8_i32_2817
  let v4651 : BitVec 32 := v4650
  let c0_i32_2818 : BitVec 32 := 0#32
  ![v4646.toNat, v4651.toNat, 0]
def k0_off1225 (v4648 : BitVec 32) : Fin 2 → Nat :=
  let v4649 : BitVec 32 := v4648
  let c0_i32_2819 : BitVec 32 := 0#32
  ![v4649.toNat, 0]

def k0_chk302 (i : grid0.Coords) (v4648 : BitVec 32) : Prop :=
  (∀ (k0_h2 : k0_cond2 i = 1#1), 8 ∣ (k0_mult603 v4648).toNat) ∧
  (∀ (k0_h2 : k0_cond2 i = 1#1), ∀ a, (k0_off1225 v4648) a + S8x128.size a ≤ S131072x128.size a)
theorem k0_mult603_dvd : ∀ (i : grid0.Coords) (v4648 : BitVec 32) (k0_hw302 : k0_chk302 i v4648), ∀ (k0_h2 : k0_cond2 i = 1#1), 8 ∣ (k0_mult603 v4648).toNat := fun i v4648 k0_hw302 k0_h2 => k0_hw302.1 k0_h2
theorem k0_off1225_inb : ∀ (i : grid0.Coords) (v4648 : BitVec 32) (k0_hw302 : k0_chk302 i v4648), ∀ (k0_h2 : k0_cond2 i = 1#1), ∀ a, (k0_off1225 v4648) a + S8x128.size a ≤ S131072x128.size a := fun i v4648 k0_hw302 k0_h2 => k0_hw302.2 k0_h2

def k0_off1226 (i : grid0.Coords) : Fin 3 → Nat :=
  let c0_2825 : Index := 0#32
  let c0_2826 : Index := 0#32
  let arg1 : BitVec 32 := BitVec.ofNat 32 (i 1).val
  let c2_i32_2820 : BitVec 32 := 2#32
  let v4657 : BitVec 32 := Scalar.muli arg1 c2_i32_2820
  let c1_i32_2821 : BitVec 32 := 1#32
  let v4658 : BitVec 32 := Scalar.addi v4657 c1_i32_2821
  let c256_i32_2822 : BitVec 32 := 256#32
  let v4659 : BitVec 32 := Scalar.muli v4658 c256_i32_2822
  let c45_i32_2823 : BitVec 32 := 45#32
  let v4660 : BitVec 32 := Scalar.addi v4659 c45_i32_2823
  let v4662 : Index := Scalar.indexCast v4660
  ![0, 0, v4662.toNat]
def k0_mult605 (v4663 : BitVec 32) : BitVec 32 :=
  v4663

def k0_mult606 (i : grid0.Coords) : BitVec 32 :=
  let arg1 : BitVec 32 := BitVec.ofNat 32 (i 1).val
  let c2_i32_2820 : BitVec 32 := 2#32
  let v4657 : BitVec 32 := Scalar.muli arg1 c2_i32_2820
  let c1_i32_2821 : BitVec 32 := 1#32
  let v4658 : BitVec 32 := Scalar.addi v4657 c1_i32_2821
  let c256_i32_2822 : BitVec 32 := 256#32
  let v4659 : BitVec 32 := Scalar.muli v4658 c256_i32_2822
  let c45_i32_2823 : BitVec 32 := 45#32
  let v4660 : BitVec 32 := Scalar.addi v4659 c45_i32_2823
  let c8_i32_2827 : BitVec 32 := 8#32
  let v4665 : BitVec 32 := Scalar.muli v4660 c8_i32_2827
  v4665
def k0_off1227 (i : grid0.Coords) : Fin 1 → Nat :=
  let c1_i32_2824 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4661 : BitVec 32 := Scalar.subi c1_i32_2824 v9
  ![v4661.toNat]
def k0_off1228 (i : grid0.Coords) : Fin 3 → Nat :=
  let c1_i32_2824 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4661 : BitVec 32 := Scalar.subi c1_i32_2824 v9
  let arg1 : BitVec 32 := BitVec.ofNat 32 (i 1).val
  let c2_i32_2820 : BitVec 32 := 2#32
  let v4657 : BitVec 32 := Scalar.muli arg1 c2_i32_2820
  let c1_i32_2821 : BitVec 32 := 1#32
  let v4658 : BitVec 32 := Scalar.addi v4657 c1_i32_2821
  let c256_i32_2822 : BitVec 32 := 256#32
  let v4659 : BitVec 32 := Scalar.muli v4658 c256_i32_2822
  let c45_i32_2823 : BitVec 32 := 45#32
  let v4660 : BitVec 32 := Scalar.addi v4659 c45_i32_2823
  let c8_i32_2827 : BitVec 32 := 8#32
  let v4665 : BitVec 32 := Scalar.muli v4660 c8_i32_2827
  let v4666 : BitVec 32 := v4665
  let c0_i32_2828 : BitVec 32 := 0#32
  ![v4661.toNat, v4666.toNat, 0]
def k0_off1229 (v4663 : BitVec 32) : Fin 2 → Nat :=
  let v4664 : BitVec 32 := v4663
  let c0_i32_2829 : BitVec 32 := 0#32
  ![v4664.toNat, 0]

def k0_chk303 (i : grid0.Coords) (v4663 : BitVec 32) : Prop :=
  (∀ (k0_h2 : k0_cond2 i = 1#1), 8 ∣ (k0_mult605 v4663).toNat) ∧
  (∀ (k0_h2 : k0_cond2 i = 1#1), ∀ a, (k0_off1229 v4663) a + S8x128.size a ≤ S131072x128.size a)
theorem k0_mult605_dvd : ∀ (i : grid0.Coords) (v4663 : BitVec 32) (k0_hw303 : k0_chk303 i v4663), ∀ (k0_h2 : k0_cond2 i = 1#1), 8 ∣ (k0_mult605 v4663).toNat := fun i v4663 k0_hw303 k0_h2 => k0_hw303.1 k0_h2
theorem k0_off1229_inb : ∀ (i : grid0.Coords) (v4663 : BitVec 32) (k0_hw303 : k0_chk303 i v4663), ∀ (k0_h2 : k0_cond2 i = 1#1), ∀ a, (k0_off1229 v4663) a + S8x128.size a ≤ S131072x128.size a := fun i v4663 k0_hw303 k0_h2 => k0_hw303.2 k0_h2

def k0_off1230 (i : grid0.Coords) : Fin 3 → Nat :=
  let c0_2835 : Index := 0#32
  let c0_2836 : Index := 0#32
  let arg1 : BitVec 32 := BitVec.ofNat 32 (i 1).val
  let c2_i32_2830 : BitVec 32 := 2#32
  let v4672 : BitVec 32 := Scalar.muli arg1 c2_i32_2830
  let c1_i32_2831 : BitVec 32 := 1#32
  let v4673 : BitVec 32 := Scalar.addi v4672 c1_i32_2831
  let c256_i32_2832 : BitVec 32 := 256#32
  let v4674 : BitVec 32 := Scalar.muli v4673 c256_i32_2832
  let c46_i32_2833 : BitVec 32 := 46#32
  let v4675 : BitVec 32 := Scalar.addi v4674 c46_i32_2833
  let v4677 : Index := Scalar.indexCast v4675
  ![0, 0, v4677.toNat]
def k0_mult607 (v4678 : BitVec 32) : BitVec 32 :=
  v4678

def k0_mult608 (i : grid0.Coords) : BitVec 32 :=
  let arg1 : BitVec 32 := BitVec.ofNat 32 (i 1).val
  let c2_i32_2830 : BitVec 32 := 2#32
  let v4672 : BitVec 32 := Scalar.muli arg1 c2_i32_2830
  let c1_i32_2831 : BitVec 32 := 1#32
  let v4673 : BitVec 32 := Scalar.addi v4672 c1_i32_2831
  let c256_i32_2832 : BitVec 32 := 256#32
  let v4674 : BitVec 32 := Scalar.muli v4673 c256_i32_2832
  let c46_i32_2833 : BitVec 32 := 46#32
  let v4675 : BitVec 32 := Scalar.addi v4674 c46_i32_2833
  let c8_i32_2837 : BitVec 32 := 8#32
  let v4680 : BitVec 32 := Scalar.muli v4675 c8_i32_2837
  v4680
def k0_off1231 (i : grid0.Coords) : Fin 1 → Nat :=
  let c1_i32_2834 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4676 : BitVec 32 := Scalar.subi c1_i32_2834 v9
  ![v4676.toNat]
def k0_off1232 (i : grid0.Coords) : Fin 3 → Nat :=
  let c1_i32_2834 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4676 : BitVec 32 := Scalar.subi c1_i32_2834 v9
  let arg1 : BitVec 32 := BitVec.ofNat 32 (i 1).val
  let c2_i32_2830 : BitVec 32 := 2#32
  let v4672 : BitVec 32 := Scalar.muli arg1 c2_i32_2830
  let c1_i32_2831 : BitVec 32 := 1#32
  let v4673 : BitVec 32 := Scalar.addi v4672 c1_i32_2831
  let c256_i32_2832 : BitVec 32 := 256#32
  let v4674 : BitVec 32 := Scalar.muli v4673 c256_i32_2832
  let c46_i32_2833 : BitVec 32 := 46#32
  let v4675 : BitVec 32 := Scalar.addi v4674 c46_i32_2833
  let c8_i32_2837 : BitVec 32 := 8#32
  let v4680 : BitVec 32 := Scalar.muli v4675 c8_i32_2837
  let v4681 : BitVec 32 := v4680
  let c0_i32_2838 : BitVec 32 := 0#32
  ![v4676.toNat, v4681.toNat, 0]
def k0_off1233 (v4678 : BitVec 32) : Fin 2 → Nat :=
  let v4679 : BitVec 32 := v4678
  let c0_i32_2839 : BitVec 32 := 0#32
  ![v4679.toNat, 0]

def k0_chk304 (i : grid0.Coords) (v4678 : BitVec 32) : Prop :=
  (∀ (k0_h2 : k0_cond2 i = 1#1), 8 ∣ (k0_mult607 v4678).toNat) ∧
  (∀ (k0_h2 : k0_cond2 i = 1#1), ∀ a, (k0_off1233 v4678) a + S8x128.size a ≤ S131072x128.size a)
theorem k0_mult607_dvd : ∀ (i : grid0.Coords) (v4678 : BitVec 32) (k0_hw304 : k0_chk304 i v4678), ∀ (k0_h2 : k0_cond2 i = 1#1), 8 ∣ (k0_mult607 v4678).toNat := fun i v4678 k0_hw304 k0_h2 => k0_hw304.1 k0_h2
theorem k0_off1233_inb : ∀ (i : grid0.Coords) (v4678 : BitVec 32) (k0_hw304 : k0_chk304 i v4678), ∀ (k0_h2 : k0_cond2 i = 1#1), ∀ a, (k0_off1233 v4678) a + S8x128.size a ≤ S131072x128.size a := fun i v4678 k0_hw304 k0_h2 => k0_hw304.2 k0_h2

def k0_off1234 (i : grid0.Coords) : Fin 3 → Nat :=
  let c0_2845 : Index := 0#32
  let c0_2846 : Index := 0#32
  let arg1 : BitVec 32 := BitVec.ofNat 32 (i 1).val
  let c2_i32_2840 : BitVec 32 := 2#32
  let v4687 : BitVec 32 := Scalar.muli arg1 c2_i32_2840
  let c1_i32_2841 : BitVec 32 := 1#32
  let v4688 : BitVec 32 := Scalar.addi v4687 c1_i32_2841
  let c256_i32_2842 : BitVec 32 := 256#32
  let v4689 : BitVec 32 := Scalar.muli v4688 c256_i32_2842
  let c47_i32_2843 : BitVec 32 := 47#32
  let v4690 : BitVec 32 := Scalar.addi v4689 c47_i32_2843
  let v4692 : Index := Scalar.indexCast v4690
  ![0, 0, v4692.toNat]
def k0_mult609 (v4693 : BitVec 32) : BitVec 32 :=
  v4693

def k0_mult610 (i : grid0.Coords) : BitVec 32 :=
  let arg1 : BitVec 32 := BitVec.ofNat 32 (i 1).val
  let c2_i32_2840 : BitVec 32 := 2#32
  let v4687 : BitVec 32 := Scalar.muli arg1 c2_i32_2840
  let c1_i32_2841 : BitVec 32 := 1#32
  let v4688 : BitVec 32 := Scalar.addi v4687 c1_i32_2841
  let c256_i32_2842 : BitVec 32 := 256#32
  let v4689 : BitVec 32 := Scalar.muli v4688 c256_i32_2842
  let c47_i32_2843 : BitVec 32 := 47#32
  let v4690 : BitVec 32 := Scalar.addi v4689 c47_i32_2843
  let c8_i32_2847 : BitVec 32 := 8#32
  let v4695 : BitVec 32 := Scalar.muli v4690 c8_i32_2847
  v4695
def k0_off1235 (i : grid0.Coords) : Fin 1 → Nat :=
  let c1_i32_2844 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4691 : BitVec 32 := Scalar.subi c1_i32_2844 v9
  ![v4691.toNat]
def k0_off1236 (i : grid0.Coords) : Fin 3 → Nat :=
  let c1_i32_2844 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4691 : BitVec 32 := Scalar.subi c1_i32_2844 v9
  let arg1 : BitVec 32 := BitVec.ofNat 32 (i 1).val
  let c2_i32_2840 : BitVec 32 := 2#32
  let v4687 : BitVec 32 := Scalar.muli arg1 c2_i32_2840
  let c1_i32_2841 : BitVec 32 := 1#32
  let v4688 : BitVec 32 := Scalar.addi v4687 c1_i32_2841
  let c256_i32_2842 : BitVec 32 := 256#32
  let v4689 : BitVec 32 := Scalar.muli v4688 c256_i32_2842
  let c47_i32_2843 : BitVec 32 := 47#32
  let v4690 : BitVec 32 := Scalar.addi v4689 c47_i32_2843
  let c8_i32_2847 : BitVec 32 := 8#32
  let v4695 : BitVec 32 := Scalar.muli v4690 c8_i32_2847
  let v4696 : BitVec 32 := v4695
  let c0_i32_2848 : BitVec 32 := 0#32
  ![v4691.toNat, v4696.toNat, 0]
def k0_off1237 (v4693 : BitVec 32) : Fin 2 → Nat :=
  let v4694 : BitVec 32 := v4693
  let c0_i32_2849 : BitVec 32 := 0#32
  ![v4694.toNat, 0]

def k0_chk305 (i : grid0.Coords) (v4693 : BitVec 32) : Prop :=
  (∀ (k0_h2 : k0_cond2 i = 1#1), 8 ∣ (k0_mult609 v4693).toNat) ∧
  (∀ (k0_h2 : k0_cond2 i = 1#1), ∀ a, (k0_off1237 v4693) a + S8x128.size a ≤ S131072x128.size a)
theorem k0_mult609_dvd : ∀ (i : grid0.Coords) (v4693 : BitVec 32) (k0_hw305 : k0_chk305 i v4693), ∀ (k0_h2 : k0_cond2 i = 1#1), 8 ∣ (k0_mult609 v4693).toNat := fun i v4693 k0_hw305 k0_h2 => k0_hw305.1 k0_h2
theorem k0_off1237_inb : ∀ (i : grid0.Coords) (v4693 : BitVec 32) (k0_hw305 : k0_chk305 i v4693), ∀ (k0_h2 : k0_cond2 i = 1#1), ∀ a, (k0_off1237 v4693) a + S8x128.size a ≤ S131072x128.size a := fun i v4693 k0_hw305 k0_h2 => k0_hw305.2 k0_h2

def k0_off1238 (i : grid0.Coords) : Fin 3 → Nat :=
  let c0_2855 : Index := 0#32
  let c0_2856 : Index := 0#32
  let arg1 : BitVec 32 := BitVec.ofNat 32 (i 1).val
  let c2_i32_2850 : BitVec 32 := 2#32
  let v4702 : BitVec 32 := Scalar.muli arg1 c2_i32_2850
  let c1_i32_2851 : BitVec 32 := 1#32
  let v4703 : BitVec 32 := Scalar.addi v4702 c1_i32_2851
  let c256_i32_2852 : BitVec 32 := 256#32
  let v4704 : BitVec 32 := Scalar.muli v4703 c256_i32_2852
  let c48_i32_2853 : BitVec 32 := 48#32
  let v4705 : BitVec 32 := Scalar.addi v4704 c48_i32_2853
  let v4707 : Index := Scalar.indexCast v4705
  ![0, 0, v4707.toNat]
def k0_mult611 (v4708 : BitVec 32) : BitVec 32 :=
  v4708

def k0_mult612 (i : grid0.Coords) : BitVec 32 :=
  let arg1 : BitVec 32 := BitVec.ofNat 32 (i 1).val
  let c2_i32_2850 : BitVec 32 := 2#32
  let v4702 : BitVec 32 := Scalar.muli arg1 c2_i32_2850
  let c1_i32_2851 : BitVec 32 := 1#32
  let v4703 : BitVec 32 := Scalar.addi v4702 c1_i32_2851
  let c256_i32_2852 : BitVec 32 := 256#32
  let v4704 : BitVec 32 := Scalar.muli v4703 c256_i32_2852
  let c48_i32_2853 : BitVec 32 := 48#32
  let v4705 : BitVec 32 := Scalar.addi v4704 c48_i32_2853
  let c8_i32_2857 : BitVec 32 := 8#32
  let v4710 : BitVec 32 := Scalar.muli v4705 c8_i32_2857
  v4710
def k0_off1239 (i : grid0.Coords) : Fin 1 → Nat :=
  let c1_i32_2854 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4706 : BitVec 32 := Scalar.subi c1_i32_2854 v9
  ![v4706.toNat]
def k0_off1240 (i : grid0.Coords) : Fin 3 → Nat :=
  let c1_i32_2854 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4706 : BitVec 32 := Scalar.subi c1_i32_2854 v9
  let arg1 : BitVec 32 := BitVec.ofNat 32 (i 1).val
  let c2_i32_2850 : BitVec 32 := 2#32
  let v4702 : BitVec 32 := Scalar.muli arg1 c2_i32_2850
  let c1_i32_2851 : BitVec 32 := 1#32
  let v4703 : BitVec 32 := Scalar.addi v4702 c1_i32_2851
  let c256_i32_2852 : BitVec 32 := 256#32
  let v4704 : BitVec 32 := Scalar.muli v4703 c256_i32_2852
  let c48_i32_2853 : BitVec 32 := 48#32
  let v4705 : BitVec 32 := Scalar.addi v4704 c48_i32_2853
  let c8_i32_2857 : BitVec 32 := 8#32
  let v4710 : BitVec 32 := Scalar.muli v4705 c8_i32_2857
  let v4711 : BitVec 32 := v4710
  let c0_i32_2858 : BitVec 32 := 0#32
  ![v4706.toNat, v4711.toNat, 0]
def k0_off1241 (v4708 : BitVec 32) : Fin 2 → Nat :=
  let v4709 : BitVec 32 := v4708
  let c0_i32_2859 : BitVec 32 := 0#32
  ![v4709.toNat, 0]

def k0_chk306 (i : grid0.Coords) (v4708 : BitVec 32) : Prop :=
  (∀ (k0_h2 : k0_cond2 i = 1#1), 8 ∣ (k0_mult611 v4708).toNat) ∧
  (∀ (k0_h2 : k0_cond2 i = 1#1), ∀ a, (k0_off1241 v4708) a + S8x128.size a ≤ S131072x128.size a)
theorem k0_mult611_dvd : ∀ (i : grid0.Coords) (v4708 : BitVec 32) (k0_hw306 : k0_chk306 i v4708), ∀ (k0_h2 : k0_cond2 i = 1#1), 8 ∣ (k0_mult611 v4708).toNat := fun i v4708 k0_hw306 k0_h2 => k0_hw306.1 k0_h2
theorem k0_off1241_inb : ∀ (i : grid0.Coords) (v4708 : BitVec 32) (k0_hw306 : k0_chk306 i v4708), ∀ (k0_h2 : k0_cond2 i = 1#1), ∀ a, (k0_off1241 v4708) a + S8x128.size a ≤ S131072x128.size a := fun i v4708 k0_hw306 k0_h2 => k0_hw306.2 k0_h2

def k0_off1242 (i : grid0.Coords) : Fin 3 → Nat :=
  let c0_2865 : Index := 0#32
  let c0_2866 : Index := 0#32
  let arg1 : BitVec 32 := BitVec.ofNat 32 (i 1).val
  let c2_i32_2860 : BitVec 32 := 2#32
  let v4717 : BitVec 32 := Scalar.muli arg1 c2_i32_2860
  let c1_i32_2861 : BitVec 32 := 1#32
  let v4718 : BitVec 32 := Scalar.addi v4717 c1_i32_2861
  let c256_i32_2862 : BitVec 32 := 256#32
  let v4719 : BitVec 32 := Scalar.muli v4718 c256_i32_2862
  let c49_i32_2863 : BitVec 32 := 49#32
  let v4720 : BitVec 32 := Scalar.addi v4719 c49_i32_2863
  let v4722 : Index := Scalar.indexCast v4720
  ![0, 0, v4722.toNat]
def k0_mult613 (v4723 : BitVec 32) : BitVec 32 :=
  v4723

def k0_mult614 (i : grid0.Coords) : BitVec 32 :=
  let arg1 : BitVec 32 := BitVec.ofNat 32 (i 1).val
  let c2_i32_2860 : BitVec 32 := 2#32
  let v4717 : BitVec 32 := Scalar.muli arg1 c2_i32_2860
  let c1_i32_2861 : BitVec 32 := 1#32
  let v4718 : BitVec 32 := Scalar.addi v4717 c1_i32_2861
  let c256_i32_2862 : BitVec 32 := 256#32
  let v4719 : BitVec 32 := Scalar.muli v4718 c256_i32_2862
  let c49_i32_2863 : BitVec 32 := 49#32
  let v4720 : BitVec 32 := Scalar.addi v4719 c49_i32_2863
  let c8_i32_2867 : BitVec 32 := 8#32
  let v4725 : BitVec 32 := Scalar.muli v4720 c8_i32_2867
  v4725
def k0_off1243 (i : grid0.Coords) : Fin 1 → Nat :=
  let c1_i32_2864 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4721 : BitVec 32 := Scalar.subi c1_i32_2864 v9
  ![v4721.toNat]
def k0_off1244 (i : grid0.Coords) : Fin 3 → Nat :=
  let c1_i32_2864 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4721 : BitVec 32 := Scalar.subi c1_i32_2864 v9
  let arg1 : BitVec 32 := BitVec.ofNat 32 (i 1).val
  let c2_i32_2860 : BitVec 32 := 2#32
  let v4717 : BitVec 32 := Scalar.muli arg1 c2_i32_2860
  let c1_i32_2861 : BitVec 32 := 1#32
  let v4718 : BitVec 32 := Scalar.addi v4717 c1_i32_2861
  let c256_i32_2862 : BitVec 32 := 256#32
  let v4719 : BitVec 32 := Scalar.muli v4718 c256_i32_2862
  let c49_i32_2863 : BitVec 32 := 49#32
  let v4720 : BitVec 32 := Scalar.addi v4719 c49_i32_2863
  let c8_i32_2867 : BitVec 32 := 8#32
  let v4725 : BitVec 32 := Scalar.muli v4720 c8_i32_2867
  let v4726 : BitVec 32 := v4725
  let c0_i32_2868 : BitVec 32 := 0#32
  ![v4721.toNat, v4726.toNat, 0]
def k0_off1245 (v4723 : BitVec 32) : Fin 2 → Nat :=
  let v4724 : BitVec 32 := v4723
  let c0_i32_2869 : BitVec 32 := 0#32
  ![v4724.toNat, 0]

def k0_chk307 (i : grid0.Coords) (v4723 : BitVec 32) : Prop :=
  (∀ (k0_h2 : k0_cond2 i = 1#1), 8 ∣ (k0_mult613 v4723).toNat) ∧
  (∀ (k0_h2 : k0_cond2 i = 1#1), ∀ a, (k0_off1245 v4723) a + S8x128.size a ≤ S131072x128.size a)
theorem k0_mult613_dvd : ∀ (i : grid0.Coords) (v4723 : BitVec 32) (k0_hw307 : k0_chk307 i v4723), ∀ (k0_h2 : k0_cond2 i = 1#1), 8 ∣ (k0_mult613 v4723).toNat := fun i v4723 k0_hw307 k0_h2 => k0_hw307.1 k0_h2
theorem k0_off1245_inb : ∀ (i : grid0.Coords) (v4723 : BitVec 32) (k0_hw307 : k0_chk307 i v4723), ∀ (k0_h2 : k0_cond2 i = 1#1), ∀ a, (k0_off1245 v4723) a + S8x128.size a ≤ S131072x128.size a := fun i v4723 k0_hw307 k0_h2 => k0_hw307.2 k0_h2

def k0_off1246 (i : grid0.Coords) : Fin 3 → Nat :=
  let c0_2875 : Index := 0#32
  let c0_2876 : Index := 0#32
  let arg1 : BitVec 32 := BitVec.ofNat 32 (i 1).val
  let c2_i32_2870 : BitVec 32 := 2#32
  let v4732 : BitVec 32 := Scalar.muli arg1 c2_i32_2870
  let c1_i32_2871 : BitVec 32 := 1#32
  let v4733 : BitVec 32 := Scalar.addi v4732 c1_i32_2871
  let c256_i32_2872 : BitVec 32 := 256#32
  let v4734 : BitVec 32 := Scalar.muli v4733 c256_i32_2872
  let c50_i32_2873 : BitVec 32 := 50#32
  let v4735 : BitVec 32 := Scalar.addi v4734 c50_i32_2873
  let v4737 : Index := Scalar.indexCast v4735
  ![0, 0, v4737.toNat]
def k0_mult615 (v4738 : BitVec 32) : BitVec 32 :=
  v4738

def k0_mult616 (i : grid0.Coords) : BitVec 32 :=
  let arg1 : BitVec 32 := BitVec.ofNat 32 (i 1).val
  let c2_i32_2870 : BitVec 32 := 2#32
  let v4732 : BitVec 32 := Scalar.muli arg1 c2_i32_2870
  let c1_i32_2871 : BitVec 32 := 1#32
  let v4733 : BitVec 32 := Scalar.addi v4732 c1_i32_2871
  let c256_i32_2872 : BitVec 32 := 256#32
  let v4734 : BitVec 32 := Scalar.muli v4733 c256_i32_2872
  let c50_i32_2873 : BitVec 32 := 50#32
  let v4735 : BitVec 32 := Scalar.addi v4734 c50_i32_2873
  let c8_i32_2877 : BitVec 32 := 8#32
  let v4740 : BitVec 32 := Scalar.muli v4735 c8_i32_2877
  v4740
def k0_off1247 (i : grid0.Coords) : Fin 1 → Nat :=
  let c1_i32_2874 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4736 : BitVec 32 := Scalar.subi c1_i32_2874 v9
  ![v4736.toNat]
def k0_off1248 (i : grid0.Coords) : Fin 3 → Nat :=
  let c1_i32_2874 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4736 : BitVec 32 := Scalar.subi c1_i32_2874 v9
  let arg1 : BitVec 32 := BitVec.ofNat 32 (i 1).val
  let c2_i32_2870 : BitVec 32 := 2#32
  let v4732 : BitVec 32 := Scalar.muli arg1 c2_i32_2870
  let c1_i32_2871 : BitVec 32 := 1#32
  let v4733 : BitVec 32 := Scalar.addi v4732 c1_i32_2871
  let c256_i32_2872 : BitVec 32 := 256#32
  let v4734 : BitVec 32 := Scalar.muli v4733 c256_i32_2872
  let c50_i32_2873 : BitVec 32 := 50#32
  let v4735 : BitVec 32 := Scalar.addi v4734 c50_i32_2873
  let c8_i32_2877 : BitVec 32 := 8#32
  let v4740 : BitVec 32 := Scalar.muli v4735 c8_i32_2877
  let v4741 : BitVec 32 := v4740
  let c0_i32_2878 : BitVec 32 := 0#32
  ![v4736.toNat, v4741.toNat, 0]
def k0_off1249 (v4738 : BitVec 32) : Fin 2 → Nat :=
  let v4739 : BitVec 32 := v4738
  let c0_i32_2879 : BitVec 32 := 0#32
  ![v4739.toNat, 0]

def k0_chk308 (i : grid0.Coords) (v4738 : BitVec 32) : Prop :=
  (∀ (k0_h2 : k0_cond2 i = 1#1), 8 ∣ (k0_mult615 v4738).toNat) ∧
  (∀ (k0_h2 : k0_cond2 i = 1#1), ∀ a, (k0_off1249 v4738) a + S8x128.size a ≤ S131072x128.size a)
theorem k0_mult615_dvd : ∀ (i : grid0.Coords) (v4738 : BitVec 32) (k0_hw308 : k0_chk308 i v4738), ∀ (k0_h2 : k0_cond2 i = 1#1), 8 ∣ (k0_mult615 v4738).toNat := fun i v4738 k0_hw308 k0_h2 => k0_hw308.1 k0_h2
theorem k0_off1249_inb : ∀ (i : grid0.Coords) (v4738 : BitVec 32) (k0_hw308 : k0_chk308 i v4738), ∀ (k0_h2 : k0_cond2 i = 1#1), ∀ a, (k0_off1249 v4738) a + S8x128.size a ≤ S131072x128.size a := fun i v4738 k0_hw308 k0_h2 => k0_hw308.2 k0_h2

def k0_off1250 (i : grid0.Coords) : Fin 3 → Nat :=
  let c0_2885 : Index := 0#32
  let c0_2886 : Index := 0#32
  let arg1 : BitVec 32 := BitVec.ofNat 32 (i 1).val
  let c2_i32_2880 : BitVec 32 := 2#32
  let v4747 : BitVec 32 := Scalar.muli arg1 c2_i32_2880
  let c1_i32_2881 : BitVec 32 := 1#32
  let v4748 : BitVec 32 := Scalar.addi v4747 c1_i32_2881
  let c256_i32_2882 : BitVec 32 := 256#32
  let v4749 : BitVec 32 := Scalar.muli v4748 c256_i32_2882
  let c51_i32_2883 : BitVec 32 := 51#32
  let v4750 : BitVec 32 := Scalar.addi v4749 c51_i32_2883
  let v4752 : Index := Scalar.indexCast v4750
  ![0, 0, v4752.toNat]
def k0_mult617 (v4753 : BitVec 32) : BitVec 32 :=
  v4753

def k0_mult618 (i : grid0.Coords) : BitVec 32 :=
  let arg1 : BitVec 32 := BitVec.ofNat 32 (i 1).val
  let c2_i32_2880 : BitVec 32 := 2#32
  let v4747 : BitVec 32 := Scalar.muli arg1 c2_i32_2880
  let c1_i32_2881 : BitVec 32 := 1#32
  let v4748 : BitVec 32 := Scalar.addi v4747 c1_i32_2881
  let c256_i32_2882 : BitVec 32 := 256#32
  let v4749 : BitVec 32 := Scalar.muli v4748 c256_i32_2882
  let c51_i32_2883 : BitVec 32 := 51#32
  let v4750 : BitVec 32 := Scalar.addi v4749 c51_i32_2883
  let c8_i32_2887 : BitVec 32 := 8#32
  let v4755 : BitVec 32 := Scalar.muli v4750 c8_i32_2887
  v4755
def k0_off1251 (i : grid0.Coords) : Fin 1 → Nat :=
  let c1_i32_2884 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4751 : BitVec 32 := Scalar.subi c1_i32_2884 v9
  ![v4751.toNat]
def k0_off1252 (i : grid0.Coords) : Fin 3 → Nat :=
  let c1_i32_2884 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4751 : BitVec 32 := Scalar.subi c1_i32_2884 v9
  let arg1 : BitVec 32 := BitVec.ofNat 32 (i 1).val
  let c2_i32_2880 : BitVec 32 := 2#32
  let v4747 : BitVec 32 := Scalar.muli arg1 c2_i32_2880
  let c1_i32_2881 : BitVec 32 := 1#32
  let v4748 : BitVec 32 := Scalar.addi v4747 c1_i32_2881
  let c256_i32_2882 : BitVec 32 := 256#32
  let v4749 : BitVec 32 := Scalar.muli v4748 c256_i32_2882
  let c51_i32_2883 : BitVec 32 := 51#32
  let v4750 : BitVec 32 := Scalar.addi v4749 c51_i32_2883
  let c8_i32_2887 : BitVec 32 := 8#32
  let v4755 : BitVec 32 := Scalar.muli v4750 c8_i32_2887
  let v4756 : BitVec 32 := v4755
  let c0_i32_2888 : BitVec 32 := 0#32
  ![v4751.toNat, v4756.toNat, 0]
def k0_off1253 (v4753 : BitVec 32) : Fin 2 → Nat :=
  let v4754 : BitVec 32 := v4753
  let c0_i32_2889 : BitVec 32 := 0#32
  ![v4754.toNat, 0]

def k0_chk309 (i : grid0.Coords) (v4753 : BitVec 32) : Prop :=
  (∀ (k0_h2 : k0_cond2 i = 1#1), 8 ∣ (k0_mult617 v4753).toNat) ∧
  (∀ (k0_h2 : k0_cond2 i = 1#1), ∀ a, (k0_off1253 v4753) a + S8x128.size a ≤ S131072x128.size a)
theorem k0_mult617_dvd : ∀ (i : grid0.Coords) (v4753 : BitVec 32) (k0_hw309 : k0_chk309 i v4753), ∀ (k0_h2 : k0_cond2 i = 1#1), 8 ∣ (k0_mult617 v4753).toNat := fun i v4753 k0_hw309 k0_h2 => k0_hw309.1 k0_h2
theorem k0_off1253_inb : ∀ (i : grid0.Coords) (v4753 : BitVec 32) (k0_hw309 : k0_chk309 i v4753), ∀ (k0_h2 : k0_cond2 i = 1#1), ∀ a, (k0_off1253 v4753) a + S8x128.size a ≤ S131072x128.size a := fun i v4753 k0_hw309 k0_h2 => k0_hw309.2 k0_h2

def k0_off1254 (i : grid0.Coords) : Fin 3 → Nat :=
  let c0_2895 : Index := 0#32
  let c0_2896 : Index := 0#32
  let arg1 : BitVec 32 := BitVec.ofNat 32 (i 1).val
  let c2_i32_2890 : BitVec 32 := 2#32
  let v4762 : BitVec 32 := Scalar.muli arg1 c2_i32_2890
  let c1_i32_2891 : BitVec 32 := 1#32
  let v4763 : BitVec 32 := Scalar.addi v4762 c1_i32_2891
  let c256_i32_2892 : BitVec 32 := 256#32
  let v4764 : BitVec 32 := Scalar.muli v4763 c256_i32_2892
  let c52_i32_2893 : BitVec 32 := 52#32
  let v4765 : BitVec 32 := Scalar.addi v4764 c52_i32_2893
  let v4767 : Index := Scalar.indexCast v4765
  ![0, 0, v4767.toNat]
def k0_mult619 (v4768 : BitVec 32) : BitVec 32 :=
  v4768

def k0_mult620 (i : grid0.Coords) : BitVec 32 :=
  let arg1 : BitVec 32 := BitVec.ofNat 32 (i 1).val
  let c2_i32_2890 : BitVec 32 := 2#32
  let v4762 : BitVec 32 := Scalar.muli arg1 c2_i32_2890
  let c1_i32_2891 : BitVec 32 := 1#32
  let v4763 : BitVec 32 := Scalar.addi v4762 c1_i32_2891
  let c256_i32_2892 : BitVec 32 := 256#32
  let v4764 : BitVec 32 := Scalar.muli v4763 c256_i32_2892
  let c52_i32_2893 : BitVec 32 := 52#32
  let v4765 : BitVec 32 := Scalar.addi v4764 c52_i32_2893
  let c8_i32_2897 : BitVec 32 := 8#32
  let v4770 : BitVec 32 := Scalar.muli v4765 c8_i32_2897
  v4770
def k0_off1255 (i : grid0.Coords) : Fin 1 → Nat :=
  let c1_i32_2894 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4766 : BitVec 32 := Scalar.subi c1_i32_2894 v9
  ![v4766.toNat]
def k0_off1256 (i : grid0.Coords) : Fin 3 → Nat :=
  let c1_i32_2894 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4766 : BitVec 32 := Scalar.subi c1_i32_2894 v9
  let arg1 : BitVec 32 := BitVec.ofNat 32 (i 1).val
  let c2_i32_2890 : BitVec 32 := 2#32
  let v4762 : BitVec 32 := Scalar.muli arg1 c2_i32_2890
  let c1_i32_2891 : BitVec 32 := 1#32
  let v4763 : BitVec 32 := Scalar.addi v4762 c1_i32_2891
  let c256_i32_2892 : BitVec 32 := 256#32
  let v4764 : BitVec 32 := Scalar.muli v4763 c256_i32_2892
  let c52_i32_2893 : BitVec 32 := 52#32
  let v4765 : BitVec 32 := Scalar.addi v4764 c52_i32_2893
  let c8_i32_2897 : BitVec 32 := 8#32
  let v4770 : BitVec 32 := Scalar.muli v4765 c8_i32_2897
  let v4771 : BitVec 32 := v4770
  let c0_i32_2898 : BitVec 32 := 0#32
  ![v4766.toNat, v4771.toNat, 0]
def k0_off1257 (v4768 : BitVec 32) : Fin 2 → Nat :=
  let v4769 : BitVec 32 := v4768
  let c0_i32_2899 : BitVec 32 := 0#32
  ![v4769.toNat, 0]

def k0_chk310 (i : grid0.Coords) (v4768 : BitVec 32) : Prop :=
  (∀ (k0_h2 : k0_cond2 i = 1#1), 8 ∣ (k0_mult619 v4768).toNat) ∧
  (∀ (k0_h2 : k0_cond2 i = 1#1), ∀ a, (k0_off1257 v4768) a + S8x128.size a ≤ S131072x128.size a)
theorem k0_mult619_dvd : ∀ (i : grid0.Coords) (v4768 : BitVec 32) (k0_hw310 : k0_chk310 i v4768), ∀ (k0_h2 : k0_cond2 i = 1#1), 8 ∣ (k0_mult619 v4768).toNat := fun i v4768 k0_hw310 k0_h2 => k0_hw310.1 k0_h2
theorem k0_off1257_inb : ∀ (i : grid0.Coords) (v4768 : BitVec 32) (k0_hw310 : k0_chk310 i v4768), ∀ (k0_h2 : k0_cond2 i = 1#1), ∀ a, (k0_off1257 v4768) a + S8x128.size a ≤ S131072x128.size a := fun i v4768 k0_hw310 k0_h2 => k0_hw310.2 k0_h2

def k0_off1258 (i : grid0.Coords) : Fin 3 → Nat :=
  let c0_2905 : Index := 0#32
  let c0_2906 : Index := 0#32
  let arg1 : BitVec 32 := BitVec.ofNat 32 (i 1).val
  let c2_i32_2900 : BitVec 32 := 2#32
  let v4777 : BitVec 32 := Scalar.muli arg1 c2_i32_2900
  let c1_i32_2901 : BitVec 32 := 1#32
  let v4778 : BitVec 32 := Scalar.addi v4777 c1_i32_2901
  let c256_i32_2902 : BitVec 32 := 256#32
  let v4779 : BitVec 32 := Scalar.muli v4778 c256_i32_2902
  let c53_i32_2903 : BitVec 32 := 53#32
  let v4780 : BitVec 32 := Scalar.addi v4779 c53_i32_2903
  let v4782 : Index := Scalar.indexCast v4780
  ![0, 0, v4782.toNat]
def k0_mult621 (v4783 : BitVec 32) : BitVec 32 :=
  v4783

def k0_mult622 (i : grid0.Coords) : BitVec 32 :=
  let arg1 : BitVec 32 := BitVec.ofNat 32 (i 1).val
  let c2_i32_2900 : BitVec 32 := 2#32
  let v4777 : BitVec 32 := Scalar.muli arg1 c2_i32_2900
  let c1_i32_2901 : BitVec 32 := 1#32
  let v4778 : BitVec 32 := Scalar.addi v4777 c1_i32_2901
  let c256_i32_2902 : BitVec 32 := 256#32
  let v4779 : BitVec 32 := Scalar.muli v4778 c256_i32_2902
  let c53_i32_2903 : BitVec 32 := 53#32
  let v4780 : BitVec 32 := Scalar.addi v4779 c53_i32_2903
  let c8_i32_2907 : BitVec 32 := 8#32
  let v4785 : BitVec 32 := Scalar.muli v4780 c8_i32_2907
  v4785
def k0_off1259 (i : grid0.Coords) : Fin 1 → Nat :=
  let c1_i32_2904 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4781 : BitVec 32 := Scalar.subi c1_i32_2904 v9
  ![v4781.toNat]
def k0_off1260 (i : grid0.Coords) : Fin 3 → Nat :=
  let c1_i32_2904 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4781 : BitVec 32 := Scalar.subi c1_i32_2904 v9
  let arg1 : BitVec 32 := BitVec.ofNat 32 (i 1).val
  let c2_i32_2900 : BitVec 32 := 2#32
  let v4777 : BitVec 32 := Scalar.muli arg1 c2_i32_2900
  let c1_i32_2901 : BitVec 32 := 1#32
  let v4778 : BitVec 32 := Scalar.addi v4777 c1_i32_2901
  let c256_i32_2902 : BitVec 32 := 256#32
  let v4779 : BitVec 32 := Scalar.muli v4778 c256_i32_2902
  let c53_i32_2903 : BitVec 32 := 53#32
  let v4780 : BitVec 32 := Scalar.addi v4779 c53_i32_2903
  let c8_i32_2907 : BitVec 32 := 8#32
  let v4785 : BitVec 32 := Scalar.muli v4780 c8_i32_2907
  let v4786 : BitVec 32 := v4785
  let c0_i32_2908 : BitVec 32 := 0#32
  ![v4781.toNat, v4786.toNat, 0]
def k0_off1261 (v4783 : BitVec 32) : Fin 2 → Nat :=
  let v4784 : BitVec 32 := v4783
  let c0_i32_2909 : BitVec 32 := 0#32
  ![v4784.toNat, 0]

def k0_chk311 (i : grid0.Coords) (v4783 : BitVec 32) : Prop :=
  (∀ (k0_h2 : k0_cond2 i = 1#1), 8 ∣ (k0_mult621 v4783).toNat) ∧
  (∀ (k0_h2 : k0_cond2 i = 1#1), ∀ a, (k0_off1261 v4783) a + S8x128.size a ≤ S131072x128.size a)
theorem k0_mult621_dvd : ∀ (i : grid0.Coords) (v4783 : BitVec 32) (k0_hw311 : k0_chk311 i v4783), ∀ (k0_h2 : k0_cond2 i = 1#1), 8 ∣ (k0_mult621 v4783).toNat := fun i v4783 k0_hw311 k0_h2 => k0_hw311.1 k0_h2
theorem k0_off1261_inb : ∀ (i : grid0.Coords) (v4783 : BitVec 32) (k0_hw311 : k0_chk311 i v4783), ∀ (k0_h2 : k0_cond2 i = 1#1), ∀ a, (k0_off1261 v4783) a + S8x128.size a ≤ S131072x128.size a := fun i v4783 k0_hw311 k0_h2 => k0_hw311.2 k0_h2

def k0_off1262 (i : grid0.Coords) : Fin 3 → Nat :=
  let c0_2915 : Index := 0#32
  let c0_2916 : Index := 0#32
  let arg1 : BitVec 32 := BitVec.ofNat 32 (i 1).val
  let c2_i32_2910 : BitVec 32 := 2#32
  let v4792 : BitVec 32 := Scalar.muli arg1 c2_i32_2910
  let c1_i32_2911 : BitVec 32 := 1#32
  let v4793 : BitVec 32 := Scalar.addi v4792 c1_i32_2911
  let c256_i32_2912 : BitVec 32 := 256#32
  let v4794 : BitVec 32 := Scalar.muli v4793 c256_i32_2912
  let c54_i32_2913 : BitVec 32 := 54#32
  let v4795 : BitVec 32 := Scalar.addi v4794 c54_i32_2913
  let v4797 : Index := Scalar.indexCast v4795
  ![0, 0, v4797.toNat]
def k0_mult623 (v4798 : BitVec 32) : BitVec 32 :=
  v4798

def k0_mult624 (i : grid0.Coords) : BitVec 32 :=
  let arg1 : BitVec 32 := BitVec.ofNat 32 (i 1).val
  let c2_i32_2910 : BitVec 32 := 2#32
  let v4792 : BitVec 32 := Scalar.muli arg1 c2_i32_2910
  let c1_i32_2911 : BitVec 32 := 1#32
  let v4793 : BitVec 32 := Scalar.addi v4792 c1_i32_2911
  let c256_i32_2912 : BitVec 32 := 256#32
  let v4794 : BitVec 32 := Scalar.muli v4793 c256_i32_2912
  let c54_i32_2913 : BitVec 32 := 54#32
  let v4795 : BitVec 32 := Scalar.addi v4794 c54_i32_2913
  let c8_i32_2917 : BitVec 32 := 8#32
  let v4800 : BitVec 32 := Scalar.muli v4795 c8_i32_2917
  v4800
def k0_off1263 (i : grid0.Coords) : Fin 1 → Nat :=
  let c1_i32_2914 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4796 : BitVec 32 := Scalar.subi c1_i32_2914 v9
  ![v4796.toNat]
def k0_off1264 (i : grid0.Coords) : Fin 3 → Nat :=
  let c1_i32_2914 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4796 : BitVec 32 := Scalar.subi c1_i32_2914 v9
  let arg1 : BitVec 32 := BitVec.ofNat 32 (i 1).val
  let c2_i32_2910 : BitVec 32 := 2#32
  let v4792 : BitVec 32 := Scalar.muli arg1 c2_i32_2910
  let c1_i32_2911 : BitVec 32 := 1#32
  let v4793 : BitVec 32 := Scalar.addi v4792 c1_i32_2911
  let c256_i32_2912 : BitVec 32 := 256#32
  let v4794 : BitVec 32 := Scalar.muli v4793 c256_i32_2912
  let c54_i32_2913 : BitVec 32 := 54#32
  let v4795 : BitVec 32 := Scalar.addi v4794 c54_i32_2913
  let c8_i32_2917 : BitVec 32 := 8#32
  let v4800 : BitVec 32 := Scalar.muli v4795 c8_i32_2917
  let v4801 : BitVec 32 := v4800
  let c0_i32_2918 : BitVec 32 := 0#32
  ![v4796.toNat, v4801.toNat, 0]
def k0_off1265 (v4798 : BitVec 32) : Fin 2 → Nat :=
  let v4799 : BitVec 32 := v4798
  let c0_i32_2919 : BitVec 32 := 0#32
  ![v4799.toNat, 0]

def k0_chk312 (i : grid0.Coords) (v4798 : BitVec 32) : Prop :=
  (∀ (k0_h2 : k0_cond2 i = 1#1), 8 ∣ (k0_mult623 v4798).toNat) ∧
  (∀ (k0_h2 : k0_cond2 i = 1#1), ∀ a, (k0_off1265 v4798) a + S8x128.size a ≤ S131072x128.size a)
theorem k0_mult623_dvd : ∀ (i : grid0.Coords) (v4798 : BitVec 32) (k0_hw312 : k0_chk312 i v4798), ∀ (k0_h2 : k0_cond2 i = 1#1), 8 ∣ (k0_mult623 v4798).toNat := fun i v4798 k0_hw312 k0_h2 => k0_hw312.1 k0_h2
theorem k0_off1265_inb : ∀ (i : grid0.Coords) (v4798 : BitVec 32) (k0_hw312 : k0_chk312 i v4798), ∀ (k0_h2 : k0_cond2 i = 1#1), ∀ a, (k0_off1265 v4798) a + S8x128.size a ≤ S131072x128.size a := fun i v4798 k0_hw312 k0_h2 => k0_hw312.2 k0_h2

def k0_off1266 (i : grid0.Coords) : Fin 3 → Nat :=
  let c0_2925 : Index := 0#32
  let c0_2926 : Index := 0#32
  let arg1 : BitVec 32 := BitVec.ofNat 32 (i 1).val
  let c2_i32_2920 : BitVec 32 := 2#32
  let v4807 : BitVec 32 := Scalar.muli arg1 c2_i32_2920
  let c1_i32_2921 : BitVec 32 := 1#32
  let v4808 : BitVec 32 := Scalar.addi v4807 c1_i32_2921
  let c256_i32_2922 : BitVec 32 := 256#32
  let v4809 : BitVec 32 := Scalar.muli v4808 c256_i32_2922
  let c55_i32_2923 : BitVec 32 := 55#32
  let v4810 : BitVec 32 := Scalar.addi v4809 c55_i32_2923
  let v4812 : Index := Scalar.indexCast v4810
  ![0, 0, v4812.toNat]
def k0_mult625 (v4813 : BitVec 32) : BitVec 32 :=
  v4813

def k0_mult626 (i : grid0.Coords) : BitVec 32 :=
  let arg1 : BitVec 32 := BitVec.ofNat 32 (i 1).val
  let c2_i32_2920 : BitVec 32 := 2#32
  let v4807 : BitVec 32 := Scalar.muli arg1 c2_i32_2920
  let c1_i32_2921 : BitVec 32 := 1#32
  let v4808 : BitVec 32 := Scalar.addi v4807 c1_i32_2921
  let c256_i32_2922 : BitVec 32 := 256#32
  let v4809 : BitVec 32 := Scalar.muli v4808 c256_i32_2922
  let c55_i32_2923 : BitVec 32 := 55#32
  let v4810 : BitVec 32 := Scalar.addi v4809 c55_i32_2923
  let c8_i32_2927 : BitVec 32 := 8#32
  let v4815 : BitVec 32 := Scalar.muli v4810 c8_i32_2927
  v4815
def k0_off1267 (i : grid0.Coords) : Fin 1 → Nat :=
  let c1_i32_2924 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4811 : BitVec 32 := Scalar.subi c1_i32_2924 v9
  ![v4811.toNat]
def k0_off1268 (i : grid0.Coords) : Fin 3 → Nat :=
  let c1_i32_2924 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4811 : BitVec 32 := Scalar.subi c1_i32_2924 v9
  let arg1 : BitVec 32 := BitVec.ofNat 32 (i 1).val
  let c2_i32_2920 : BitVec 32 := 2#32
  let v4807 : BitVec 32 := Scalar.muli arg1 c2_i32_2920
  let c1_i32_2921 : BitVec 32 := 1#32
  let v4808 : BitVec 32 := Scalar.addi v4807 c1_i32_2921
  let c256_i32_2922 : BitVec 32 := 256#32
  let v4809 : BitVec 32 := Scalar.muli v4808 c256_i32_2922
  let c55_i32_2923 : BitVec 32 := 55#32
  let v4810 : BitVec 32 := Scalar.addi v4809 c55_i32_2923
  let c8_i32_2927 : BitVec 32 := 8#32
  let v4815 : BitVec 32 := Scalar.muli v4810 c8_i32_2927
  let v4816 : BitVec 32 := v4815
  let c0_i32_2928 : BitVec 32 := 0#32
  ![v4811.toNat, v4816.toNat, 0]
def k0_off1269 (v4813 : BitVec 32) : Fin 2 → Nat :=
  let v4814 : BitVec 32 := v4813
  let c0_i32_2929 : BitVec 32 := 0#32
  ![v4814.toNat, 0]

def k0_chk313 (i : grid0.Coords) (v4813 : BitVec 32) : Prop :=
  (∀ (k0_h2 : k0_cond2 i = 1#1), 8 ∣ (k0_mult625 v4813).toNat) ∧
  (∀ (k0_h2 : k0_cond2 i = 1#1), ∀ a, (k0_off1269 v4813) a + S8x128.size a ≤ S131072x128.size a)
theorem k0_mult625_dvd : ∀ (i : grid0.Coords) (v4813 : BitVec 32) (k0_hw313 : k0_chk313 i v4813), ∀ (k0_h2 : k0_cond2 i = 1#1), 8 ∣ (k0_mult625 v4813).toNat := fun i v4813 k0_hw313 k0_h2 => k0_hw313.1 k0_h2
theorem k0_off1269_inb : ∀ (i : grid0.Coords) (v4813 : BitVec 32) (k0_hw313 : k0_chk313 i v4813), ∀ (k0_h2 : k0_cond2 i = 1#1), ∀ a, (k0_off1269 v4813) a + S8x128.size a ≤ S131072x128.size a := fun i v4813 k0_hw313 k0_h2 => k0_hw313.2 k0_h2

def k0_off1270 (i : grid0.Coords) : Fin 3 → Nat :=
  let c0_2935 : Index := 0#32
  let c0_2936 : Index := 0#32
  let arg1 : BitVec 32 := BitVec.ofNat 32 (i 1).val
  let c2_i32_2930 : BitVec 32 := 2#32
  let v4822 : BitVec 32 := Scalar.muli arg1 c2_i32_2930
  let c1_i32_2931 : BitVec 32 := 1#32
  let v4823 : BitVec 32 := Scalar.addi v4822 c1_i32_2931
  let c256_i32_2932 : BitVec 32 := 256#32
  let v4824 : BitVec 32 := Scalar.muli v4823 c256_i32_2932
  let c56_i32_2933 : BitVec 32 := 56#32
  let v4825 : BitVec 32 := Scalar.addi v4824 c56_i32_2933
  let v4827 : Index := Scalar.indexCast v4825
  ![0, 0, v4827.toNat]
def k0_mult627 (v4828 : BitVec 32) : BitVec 32 :=
  v4828

def k0_mult628 (i : grid0.Coords) : BitVec 32 :=
  let arg1 : BitVec 32 := BitVec.ofNat 32 (i 1).val
  let c2_i32_2930 : BitVec 32 := 2#32
  let v4822 : BitVec 32 := Scalar.muli arg1 c2_i32_2930
  let c1_i32_2931 : BitVec 32 := 1#32
  let v4823 : BitVec 32 := Scalar.addi v4822 c1_i32_2931
  let c256_i32_2932 : BitVec 32 := 256#32
  let v4824 : BitVec 32 := Scalar.muli v4823 c256_i32_2932
  let c56_i32_2933 : BitVec 32 := 56#32
  let v4825 : BitVec 32 := Scalar.addi v4824 c56_i32_2933
  let c8_i32_2937 : BitVec 32 := 8#32
  let v4830 : BitVec 32 := Scalar.muli v4825 c8_i32_2937
  v4830
def k0_off1271 (i : grid0.Coords) : Fin 1 → Nat :=
  let c1_i32_2934 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4826 : BitVec 32 := Scalar.subi c1_i32_2934 v9
  ![v4826.toNat]
def k0_off1272 (i : grid0.Coords) : Fin 3 → Nat :=
  let c1_i32_2934 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4826 : BitVec 32 := Scalar.subi c1_i32_2934 v9
  let arg1 : BitVec 32 := BitVec.ofNat 32 (i 1).val
  let c2_i32_2930 : BitVec 32 := 2#32
  let v4822 : BitVec 32 := Scalar.muli arg1 c2_i32_2930
  let c1_i32_2931 : BitVec 32 := 1#32
  let v4823 : BitVec 32 := Scalar.addi v4822 c1_i32_2931
  let c256_i32_2932 : BitVec 32 := 256#32
  let v4824 : BitVec 32 := Scalar.muli v4823 c256_i32_2932
  let c56_i32_2933 : BitVec 32 := 56#32
  let v4825 : BitVec 32 := Scalar.addi v4824 c56_i32_2933
  let c8_i32_2937 : BitVec 32 := 8#32
  let v4830 : BitVec 32 := Scalar.muli v4825 c8_i32_2937
  let v4831 : BitVec 32 := v4830
  let c0_i32_2938 : BitVec 32 := 0#32
  ![v4826.toNat, v4831.toNat, 0]
def k0_off1273 (v4828 : BitVec 32) : Fin 2 → Nat :=
  let v4829 : BitVec 32 := v4828
  let c0_i32_2939 : BitVec 32 := 0#32
  ![v4829.toNat, 0]

def k0_chk314 (i : grid0.Coords) (v4828 : BitVec 32) : Prop :=
  (∀ (k0_h2 : k0_cond2 i = 1#1), 8 ∣ (k0_mult627 v4828).toNat) ∧
  (∀ (k0_h2 : k0_cond2 i = 1#1), ∀ a, (k0_off1273 v4828) a + S8x128.size a ≤ S131072x128.size a)
theorem k0_mult627_dvd : ∀ (i : grid0.Coords) (v4828 : BitVec 32) (k0_hw314 : k0_chk314 i v4828), ∀ (k0_h2 : k0_cond2 i = 1#1), 8 ∣ (k0_mult627 v4828).toNat := fun i v4828 k0_hw314 k0_h2 => k0_hw314.1 k0_h2
theorem k0_off1273_inb : ∀ (i : grid0.Coords) (v4828 : BitVec 32) (k0_hw314 : k0_chk314 i v4828), ∀ (k0_h2 : k0_cond2 i = 1#1), ∀ a, (k0_off1273 v4828) a + S8x128.size a ≤ S131072x128.size a := fun i v4828 k0_hw314 k0_h2 => k0_hw314.2 k0_h2

def k0_off1274 (i : grid0.Coords) : Fin 3 → Nat :=
  let c0_2945 : Index := 0#32
  let c0_2946 : Index := 0#32
  let arg1 : BitVec 32 := BitVec.ofNat 32 (i 1).val
  let c2_i32_2940 : BitVec 32 := 2#32
  let v4837 : BitVec 32 := Scalar.muli arg1 c2_i32_2940
  let c1_i32_2941 : BitVec 32 := 1#32
  let v4838 : BitVec 32 := Scalar.addi v4837 c1_i32_2941
  let c256_i32_2942 : BitVec 32 := 256#32
  let v4839 : BitVec 32 := Scalar.muli v4838 c256_i32_2942
  let c57_i32_2943 : BitVec 32 := 57#32
  let v4840 : BitVec 32 := Scalar.addi v4839 c57_i32_2943
  let v4842 : Index := Scalar.indexCast v4840
  ![0, 0, v4842.toNat]
def k0_mult629 (v4843 : BitVec 32) : BitVec 32 :=
  v4843

def k0_mult630 (i : grid0.Coords) : BitVec 32 :=
  let arg1 : BitVec 32 := BitVec.ofNat 32 (i 1).val
  let c2_i32_2940 : BitVec 32 := 2#32
  let v4837 : BitVec 32 := Scalar.muli arg1 c2_i32_2940
  let c1_i32_2941 : BitVec 32 := 1#32
  let v4838 : BitVec 32 := Scalar.addi v4837 c1_i32_2941
  let c256_i32_2942 : BitVec 32 := 256#32
  let v4839 : BitVec 32 := Scalar.muli v4838 c256_i32_2942
  let c57_i32_2943 : BitVec 32 := 57#32
  let v4840 : BitVec 32 := Scalar.addi v4839 c57_i32_2943
  let c8_i32_2947 : BitVec 32 := 8#32
  let v4845 : BitVec 32 := Scalar.muli v4840 c8_i32_2947
  v4845
def k0_off1275 (i : grid0.Coords) : Fin 1 → Nat :=
  let c1_i32_2944 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4841 : BitVec 32 := Scalar.subi c1_i32_2944 v9
  ![v4841.toNat]
def k0_off1276 (i : grid0.Coords) : Fin 3 → Nat :=
  let c1_i32_2944 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4841 : BitVec 32 := Scalar.subi c1_i32_2944 v9
  let arg1 : BitVec 32 := BitVec.ofNat 32 (i 1).val
  let c2_i32_2940 : BitVec 32 := 2#32
  let v4837 : BitVec 32 := Scalar.muli arg1 c2_i32_2940
  let c1_i32_2941 : BitVec 32 := 1#32
  let v4838 : BitVec 32 := Scalar.addi v4837 c1_i32_2941
  let c256_i32_2942 : BitVec 32 := 256#32
  let v4839 : BitVec 32 := Scalar.muli v4838 c256_i32_2942
  let c57_i32_2943 : BitVec 32 := 57#32
  let v4840 : BitVec 32 := Scalar.addi v4839 c57_i32_2943
  let c8_i32_2947 : BitVec 32 := 8#32
  let v4845 : BitVec 32 := Scalar.muli v4840 c8_i32_2947
  let v4846 : BitVec 32 := v4845
  let c0_i32_2948 : BitVec 32 := 0#32
  ![v4841.toNat, v4846.toNat, 0]
def k0_off1277 (v4843 : BitVec 32) : Fin 2 → Nat :=
  let v4844 : BitVec 32 := v4843
  let c0_i32_2949 : BitVec 32 := 0#32
  ![v4844.toNat, 0]

def k0_chk315 (i : grid0.Coords) (v4843 : BitVec 32) : Prop :=
  (∀ (k0_h2 : k0_cond2 i = 1#1), 8 ∣ (k0_mult629 v4843).toNat) ∧
  (∀ (k0_h2 : k0_cond2 i = 1#1), ∀ a, (k0_off1277 v4843) a + S8x128.size a ≤ S131072x128.size a)
theorem k0_mult629_dvd : ∀ (i : grid0.Coords) (v4843 : BitVec 32) (k0_hw315 : k0_chk315 i v4843), ∀ (k0_h2 : k0_cond2 i = 1#1), 8 ∣ (k0_mult629 v4843).toNat := fun i v4843 k0_hw315 k0_h2 => k0_hw315.1 k0_h2
theorem k0_off1277_inb : ∀ (i : grid0.Coords) (v4843 : BitVec 32) (k0_hw315 : k0_chk315 i v4843), ∀ (k0_h2 : k0_cond2 i = 1#1), ∀ a, (k0_off1277 v4843) a + S8x128.size a ≤ S131072x128.size a := fun i v4843 k0_hw315 k0_h2 => k0_hw315.2 k0_h2

def k0_off1278 (i : grid0.Coords) : Fin 3 → Nat :=
  let c0_2955 : Index := 0#32
  let c0_2956 : Index := 0#32
  let arg1 : BitVec 32 := BitVec.ofNat 32 (i 1).val
  let c2_i32_2950 : BitVec 32 := 2#32
  let v4852 : BitVec 32 := Scalar.muli arg1 c2_i32_2950
  let c1_i32_2951 : BitVec 32 := 1#32
  let v4853 : BitVec 32 := Scalar.addi v4852 c1_i32_2951
  let c256_i32_2952 : BitVec 32 := 256#32
  let v4854 : BitVec 32 := Scalar.muli v4853 c256_i32_2952
  let c58_i32_2953 : BitVec 32 := 58#32
  let v4855 : BitVec 32 := Scalar.addi v4854 c58_i32_2953
  let v4857 : Index := Scalar.indexCast v4855
  ![0, 0, v4857.toNat]
def k0_mult631 (v4858 : BitVec 32) : BitVec 32 :=
  v4858

def k0_mult632 (i : grid0.Coords) : BitVec 32 :=
  let arg1 : BitVec 32 := BitVec.ofNat 32 (i 1).val
  let c2_i32_2950 : BitVec 32 := 2#32
  let v4852 : BitVec 32 := Scalar.muli arg1 c2_i32_2950
  let c1_i32_2951 : BitVec 32 := 1#32
  let v4853 : BitVec 32 := Scalar.addi v4852 c1_i32_2951
  let c256_i32_2952 : BitVec 32 := 256#32
  let v4854 : BitVec 32 := Scalar.muli v4853 c256_i32_2952
  let c58_i32_2953 : BitVec 32 := 58#32
  let v4855 : BitVec 32 := Scalar.addi v4854 c58_i32_2953
  let c8_i32_2957 : BitVec 32 := 8#32
  let v4860 : BitVec 32 := Scalar.muli v4855 c8_i32_2957
  v4860
def k0_off1279 (i : grid0.Coords) : Fin 1 → Nat :=
  let c1_i32_2954 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4856 : BitVec 32 := Scalar.subi c1_i32_2954 v9
  ![v4856.toNat]
def k0_off1280 (i : grid0.Coords) : Fin 3 → Nat :=
  let c1_i32_2954 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4856 : BitVec 32 := Scalar.subi c1_i32_2954 v9
  let arg1 : BitVec 32 := BitVec.ofNat 32 (i 1).val
  let c2_i32_2950 : BitVec 32 := 2#32
  let v4852 : BitVec 32 := Scalar.muli arg1 c2_i32_2950
  let c1_i32_2951 : BitVec 32 := 1#32
  let v4853 : BitVec 32 := Scalar.addi v4852 c1_i32_2951
  let c256_i32_2952 : BitVec 32 := 256#32
  let v4854 : BitVec 32 := Scalar.muli v4853 c256_i32_2952
  let c58_i32_2953 : BitVec 32 := 58#32
  let v4855 : BitVec 32 := Scalar.addi v4854 c58_i32_2953
  let c8_i32_2957 : BitVec 32 := 8#32
  let v4860 : BitVec 32 := Scalar.muli v4855 c8_i32_2957
  let v4861 : BitVec 32 := v4860
  let c0_i32_2958 : BitVec 32 := 0#32
  ![v4856.toNat, v4861.toNat, 0]
def k0_off1281 (v4858 : BitVec 32) : Fin 2 → Nat :=
  let v4859 : BitVec 32 := v4858
  let c0_i32_2959 : BitVec 32 := 0#32
  ![v4859.toNat, 0]

def k0_chk316 (i : grid0.Coords) (v4858 : BitVec 32) : Prop :=
  (∀ (k0_h2 : k0_cond2 i = 1#1), 8 ∣ (k0_mult631 v4858).toNat) ∧
  (∀ (k0_h2 : k0_cond2 i = 1#1), ∀ a, (k0_off1281 v4858) a + S8x128.size a ≤ S131072x128.size a)
theorem k0_mult631_dvd : ∀ (i : grid0.Coords) (v4858 : BitVec 32) (k0_hw316 : k0_chk316 i v4858), ∀ (k0_h2 : k0_cond2 i = 1#1), 8 ∣ (k0_mult631 v4858).toNat := fun i v4858 k0_hw316 k0_h2 => k0_hw316.1 k0_h2
theorem k0_off1281_inb : ∀ (i : grid0.Coords) (v4858 : BitVec 32) (k0_hw316 : k0_chk316 i v4858), ∀ (k0_h2 : k0_cond2 i = 1#1), ∀ a, (k0_off1281 v4858) a + S8x128.size a ≤ S131072x128.size a := fun i v4858 k0_hw316 k0_h2 => k0_hw316.2 k0_h2

def k0_off1282 (i : grid0.Coords) : Fin 3 → Nat :=
  let c0_2965 : Index := 0#32
  let c0_2966 : Index := 0#32
  let arg1 : BitVec 32 := BitVec.ofNat 32 (i 1).val
  let c2_i32_2960 : BitVec 32 := 2#32
  let v4867 : BitVec 32 := Scalar.muli arg1 c2_i32_2960
  let c1_i32_2961 : BitVec 32 := 1#32
  let v4868 : BitVec 32 := Scalar.addi v4867 c1_i32_2961
  let c256_i32_2962 : BitVec 32 := 256#32
  let v4869 : BitVec 32 := Scalar.muli v4868 c256_i32_2962
  let c59_i32_2963 : BitVec 32 := 59#32
  let v4870 : BitVec 32 := Scalar.addi v4869 c59_i32_2963
  let v4872 : Index := Scalar.indexCast v4870
  ![0, 0, v4872.toNat]
def k0_mult633 (v4873 : BitVec 32) : BitVec 32 :=
  v4873

def k0_mult634 (i : grid0.Coords) : BitVec 32 :=
  let arg1 : BitVec 32 := BitVec.ofNat 32 (i 1).val
  let c2_i32_2960 : BitVec 32 := 2#32
  let v4867 : BitVec 32 := Scalar.muli arg1 c2_i32_2960
  let c1_i32_2961 : BitVec 32 := 1#32
  let v4868 : BitVec 32 := Scalar.addi v4867 c1_i32_2961
  let c256_i32_2962 : BitVec 32 := 256#32
  let v4869 : BitVec 32 := Scalar.muli v4868 c256_i32_2962
  let c59_i32_2963 : BitVec 32 := 59#32
  let v4870 : BitVec 32 := Scalar.addi v4869 c59_i32_2963
  let c8_i32_2967 : BitVec 32 := 8#32
  let v4875 : BitVec 32 := Scalar.muli v4870 c8_i32_2967
  v4875
def k0_off1283 (i : grid0.Coords) : Fin 1 → Nat :=
  let c1_i32_2964 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4871 : BitVec 32 := Scalar.subi c1_i32_2964 v9
  ![v4871.toNat]
def k0_off1284 (i : grid0.Coords) : Fin 3 → Nat :=
  let c1_i32_2964 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4871 : BitVec 32 := Scalar.subi c1_i32_2964 v9
  let arg1 : BitVec 32 := BitVec.ofNat 32 (i 1).val
  let c2_i32_2960 : BitVec 32 := 2#32
  let v4867 : BitVec 32 := Scalar.muli arg1 c2_i32_2960
  let c1_i32_2961 : BitVec 32 := 1#32
  let v4868 : BitVec 32 := Scalar.addi v4867 c1_i32_2961
  let c256_i32_2962 : BitVec 32 := 256#32
  let v4869 : BitVec 32 := Scalar.muli v4868 c256_i32_2962
  let c59_i32_2963 : BitVec 32 := 59#32
  let v4870 : BitVec 32 := Scalar.addi v4869 c59_i32_2963
  let c8_i32_2967 : BitVec 32 := 8#32
  let v4875 : BitVec 32 := Scalar.muli v4870 c8_i32_2967
  let v4876 : BitVec 32 := v4875
  let c0_i32_2968 : BitVec 32 := 0#32
  ![v4871.toNat, v4876.toNat, 0]
def k0_off1285 (v4873 : BitVec 32) : Fin 2 → Nat :=
  let v4874 : BitVec 32 := v4873
  let c0_i32_2969 : BitVec 32 := 0#32
  ![v4874.toNat, 0]

def k0_chk317 (i : grid0.Coords) (v4873 : BitVec 32) : Prop :=
  (∀ (k0_h2 : k0_cond2 i = 1#1), 8 ∣ (k0_mult633 v4873).toNat) ∧
  (∀ (k0_h2 : k0_cond2 i = 1#1), ∀ a, (k0_off1285 v4873) a + S8x128.size a ≤ S131072x128.size a)
theorem k0_mult633_dvd : ∀ (i : grid0.Coords) (v4873 : BitVec 32) (k0_hw317 : k0_chk317 i v4873), ∀ (k0_h2 : k0_cond2 i = 1#1), 8 ∣ (k0_mult633 v4873).toNat := fun i v4873 k0_hw317 k0_h2 => k0_hw317.1 k0_h2
theorem k0_off1285_inb : ∀ (i : grid0.Coords) (v4873 : BitVec 32) (k0_hw317 : k0_chk317 i v4873), ∀ (k0_h2 : k0_cond2 i = 1#1), ∀ a, (k0_off1285 v4873) a + S8x128.size a ≤ S131072x128.size a := fun i v4873 k0_hw317 k0_h2 => k0_hw317.2 k0_h2

def k0_off1286 (i : grid0.Coords) : Fin 3 → Nat :=
  let c0_2975 : Index := 0#32
  let c0_2976 : Index := 0#32
  let arg1 : BitVec 32 := BitVec.ofNat 32 (i 1).val
  let c2_i32_2970 : BitVec 32 := 2#32
  let v4882 : BitVec 32 := Scalar.muli arg1 c2_i32_2970
  let c1_i32_2971 : BitVec 32 := 1#32
  let v4883 : BitVec 32 := Scalar.addi v4882 c1_i32_2971
  let c256_i32_2972 : BitVec 32 := 256#32
  let v4884 : BitVec 32 := Scalar.muli v4883 c256_i32_2972
  let c60_i32_2973 : BitVec 32 := 60#32
  let v4885 : BitVec 32 := Scalar.addi v4884 c60_i32_2973
  let v4887 : Index := Scalar.indexCast v4885
  ![0, 0, v4887.toNat]
def k0_mult635 (v4888 : BitVec 32) : BitVec 32 :=
  v4888

def k0_mult636 (i : grid0.Coords) : BitVec 32 :=
  let arg1 : BitVec 32 := BitVec.ofNat 32 (i 1).val
  let c2_i32_2970 : BitVec 32 := 2#32
  let v4882 : BitVec 32 := Scalar.muli arg1 c2_i32_2970
  let c1_i32_2971 : BitVec 32 := 1#32
  let v4883 : BitVec 32 := Scalar.addi v4882 c1_i32_2971
  let c256_i32_2972 : BitVec 32 := 256#32
  let v4884 : BitVec 32 := Scalar.muli v4883 c256_i32_2972
  let c60_i32_2973 : BitVec 32 := 60#32
  let v4885 : BitVec 32 := Scalar.addi v4884 c60_i32_2973
  let c8_i32_2977 : BitVec 32 := 8#32
  let v4890 : BitVec 32 := Scalar.muli v4885 c8_i32_2977
  v4890
def k0_off1287 (i : grid0.Coords) : Fin 1 → Nat :=
  let c1_i32_2974 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4886 : BitVec 32 := Scalar.subi c1_i32_2974 v9
  ![v4886.toNat]
def k0_off1288 (i : grid0.Coords) : Fin 3 → Nat :=
  let c1_i32_2974 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4886 : BitVec 32 := Scalar.subi c1_i32_2974 v9
  let arg1 : BitVec 32 := BitVec.ofNat 32 (i 1).val
  let c2_i32_2970 : BitVec 32 := 2#32
  let v4882 : BitVec 32 := Scalar.muli arg1 c2_i32_2970
  let c1_i32_2971 : BitVec 32 := 1#32
  let v4883 : BitVec 32 := Scalar.addi v4882 c1_i32_2971
  let c256_i32_2972 : BitVec 32 := 256#32
  let v4884 : BitVec 32 := Scalar.muli v4883 c256_i32_2972
  let c60_i32_2973 : BitVec 32 := 60#32
  let v4885 : BitVec 32 := Scalar.addi v4884 c60_i32_2973
  let c8_i32_2977 : BitVec 32 := 8#32
  let v4890 : BitVec 32 := Scalar.muli v4885 c8_i32_2977
  let v4891 : BitVec 32 := v4890
  let c0_i32_2978 : BitVec 32 := 0#32
  ![v4886.toNat, v4891.toNat, 0]
def k0_off1289 (v4888 : BitVec 32) : Fin 2 → Nat :=
  let v4889 : BitVec 32 := v4888
  let c0_i32_2979 : BitVec 32 := 0#32
  ![v4889.toNat, 0]

def k0_chk318 (i : grid0.Coords) (v4888 : BitVec 32) : Prop :=
  (∀ (k0_h2 : k0_cond2 i = 1#1), 8 ∣ (k0_mult635 v4888).toNat) ∧
  (∀ (k0_h2 : k0_cond2 i = 1#1), ∀ a, (k0_off1289 v4888) a + S8x128.size a ≤ S131072x128.size a)
theorem k0_mult635_dvd : ∀ (i : grid0.Coords) (v4888 : BitVec 32) (k0_hw318 : k0_chk318 i v4888), ∀ (k0_h2 : k0_cond2 i = 1#1), 8 ∣ (k0_mult635 v4888).toNat := fun i v4888 k0_hw318 k0_h2 => k0_hw318.1 k0_h2
theorem k0_off1289_inb : ∀ (i : grid0.Coords) (v4888 : BitVec 32) (k0_hw318 : k0_chk318 i v4888), ∀ (k0_h2 : k0_cond2 i = 1#1), ∀ a, (k0_off1289 v4888) a + S8x128.size a ≤ S131072x128.size a := fun i v4888 k0_hw318 k0_h2 => k0_hw318.2 k0_h2

def k0_off1290 (i : grid0.Coords) : Fin 3 → Nat :=
  let c0_2985 : Index := 0#32
  let c0_2986 : Index := 0#32
  let arg1 : BitVec 32 := BitVec.ofNat 32 (i 1).val
  let c2_i32_2980 : BitVec 32 := 2#32
  let v4897 : BitVec 32 := Scalar.muli arg1 c2_i32_2980
  let c1_i32_2981 : BitVec 32 := 1#32
  let v4898 : BitVec 32 := Scalar.addi v4897 c1_i32_2981
  let c256_i32_2982 : BitVec 32 := 256#32
  let v4899 : BitVec 32 := Scalar.muli v4898 c256_i32_2982
  let c61_i32_2983 : BitVec 32 := 61#32
  let v4900 : BitVec 32 := Scalar.addi v4899 c61_i32_2983
  let v4902 : Index := Scalar.indexCast v4900
  ![0, 0, v4902.toNat]
def k0_mult637 (v4903 : BitVec 32) : BitVec 32 :=
  v4903

def k0_mult638 (i : grid0.Coords) : BitVec 32 :=
  let arg1 : BitVec 32 := BitVec.ofNat 32 (i 1).val
  let c2_i32_2980 : BitVec 32 := 2#32
  let v4897 : BitVec 32 := Scalar.muli arg1 c2_i32_2980
  let c1_i32_2981 : BitVec 32 := 1#32
  let v4898 : BitVec 32 := Scalar.addi v4897 c1_i32_2981
  let c256_i32_2982 : BitVec 32 := 256#32
  let v4899 : BitVec 32 := Scalar.muli v4898 c256_i32_2982
  let c61_i32_2983 : BitVec 32 := 61#32
  let v4900 : BitVec 32 := Scalar.addi v4899 c61_i32_2983
  let c8_i32_2987 : BitVec 32 := 8#32
  let v4905 : BitVec 32 := Scalar.muli v4900 c8_i32_2987
  v4905
def k0_off1291 (i : grid0.Coords) : Fin 1 → Nat :=
  let c1_i32_2984 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4901 : BitVec 32 := Scalar.subi c1_i32_2984 v9
  ![v4901.toNat]
def k0_off1292 (i : grid0.Coords) : Fin 3 → Nat :=
  let c1_i32_2984 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4901 : BitVec 32 := Scalar.subi c1_i32_2984 v9
  let arg1 : BitVec 32 := BitVec.ofNat 32 (i 1).val
  let c2_i32_2980 : BitVec 32 := 2#32
  let v4897 : BitVec 32 := Scalar.muli arg1 c2_i32_2980
  let c1_i32_2981 : BitVec 32 := 1#32
  let v4898 : BitVec 32 := Scalar.addi v4897 c1_i32_2981
  let c256_i32_2982 : BitVec 32 := 256#32
  let v4899 : BitVec 32 := Scalar.muli v4898 c256_i32_2982
  let c61_i32_2983 : BitVec 32 := 61#32
  let v4900 : BitVec 32 := Scalar.addi v4899 c61_i32_2983
  let c8_i32_2987 : BitVec 32 := 8#32
  let v4905 : BitVec 32 := Scalar.muli v4900 c8_i32_2987
  let v4906 : BitVec 32 := v4905
  let c0_i32_2988 : BitVec 32 := 0#32
  ![v4901.toNat, v4906.toNat, 0]
def k0_off1293 (v4903 : BitVec 32) : Fin 2 → Nat :=
  let v4904 : BitVec 32 := v4903
  let c0_i32_2989 : BitVec 32 := 0#32
  ![v4904.toNat, 0]

def k0_chk319 (i : grid0.Coords) (v4903 : BitVec 32) : Prop :=
  (∀ (k0_h2 : k0_cond2 i = 1#1), 8 ∣ (k0_mult637 v4903).toNat) ∧
  (∀ (k0_h2 : k0_cond2 i = 1#1), ∀ a, (k0_off1293 v4903) a + S8x128.size a ≤ S131072x128.size a)
theorem k0_mult637_dvd : ∀ (i : grid0.Coords) (v4903 : BitVec 32) (k0_hw319 : k0_chk319 i v4903), ∀ (k0_h2 : k0_cond2 i = 1#1), 8 ∣ (k0_mult637 v4903).toNat := fun i v4903 k0_hw319 k0_h2 => k0_hw319.1 k0_h2
theorem k0_off1293_inb : ∀ (i : grid0.Coords) (v4903 : BitVec 32) (k0_hw319 : k0_chk319 i v4903), ∀ (k0_h2 : k0_cond2 i = 1#1), ∀ a, (k0_off1293 v4903) a + S8x128.size a ≤ S131072x128.size a := fun i v4903 k0_hw319 k0_h2 => k0_hw319.2 k0_h2

def k0_off1294 (i : grid0.Coords) : Fin 3 → Nat :=
  let c0_2995 : Index := 0#32
  let c0_2996 : Index := 0#32
  let arg1 : BitVec 32 := BitVec.ofNat 32 (i 1).val
  let c2_i32_2990 : BitVec 32 := 2#32
  let v4912 : BitVec 32 := Scalar.muli arg1 c2_i32_2990
  let c1_i32_2991 : BitVec 32 := 1#32
  let v4913 : BitVec 32 := Scalar.addi v4912 c1_i32_2991
  let c256_i32_2992 : BitVec 32 := 256#32
  let v4914 : BitVec 32 := Scalar.muli v4913 c256_i32_2992
  let c62_i32_2993 : BitVec 32 := 62#32
  let v4915 : BitVec 32 := Scalar.addi v4914 c62_i32_2993
  let v4917 : Index := Scalar.indexCast v4915
  ![0, 0, v4917.toNat]
def k0_mult639 (v4918 : BitVec 32) : BitVec 32 :=
  v4918

def k0_mult640 (i : grid0.Coords) : BitVec 32 :=
  let arg1 : BitVec 32 := BitVec.ofNat 32 (i 1).val
  let c2_i32_2990 : BitVec 32 := 2#32
  let v4912 : BitVec 32 := Scalar.muli arg1 c2_i32_2990
  let c1_i32_2991 : BitVec 32 := 1#32
  let v4913 : BitVec 32 := Scalar.addi v4912 c1_i32_2991
  let c256_i32_2992 : BitVec 32 := 256#32
  let v4914 : BitVec 32 := Scalar.muli v4913 c256_i32_2992
  let c62_i32_2993 : BitVec 32 := 62#32
  let v4915 : BitVec 32 := Scalar.addi v4914 c62_i32_2993
  let c8_i32_2997 : BitVec 32 := 8#32
  let v4920 : BitVec 32 := Scalar.muli v4915 c8_i32_2997
  v4920
def k0_off1295 (i : grid0.Coords) : Fin 1 → Nat :=
  let c1_i32_2994 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4916 : BitVec 32 := Scalar.subi c1_i32_2994 v9
  ![v4916.toNat]
def k0_off1296 (i : grid0.Coords) : Fin 3 → Nat :=
  let c1_i32_2994 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4916 : BitVec 32 := Scalar.subi c1_i32_2994 v9
  let arg1 : BitVec 32 := BitVec.ofNat 32 (i 1).val
  let c2_i32_2990 : BitVec 32 := 2#32
  let v4912 : BitVec 32 := Scalar.muli arg1 c2_i32_2990
  let c1_i32_2991 : BitVec 32 := 1#32
  let v4913 : BitVec 32 := Scalar.addi v4912 c1_i32_2991
  let c256_i32_2992 : BitVec 32 := 256#32
  let v4914 : BitVec 32 := Scalar.muli v4913 c256_i32_2992
  let c62_i32_2993 : BitVec 32 := 62#32
  let v4915 : BitVec 32 := Scalar.addi v4914 c62_i32_2993
  let c8_i32_2997 : BitVec 32 := 8#32
  let v4920 : BitVec 32 := Scalar.muli v4915 c8_i32_2997
  let v4921 : BitVec 32 := v4920
  let c0_i32_2998 : BitVec 32 := 0#32
  ![v4916.toNat, v4921.toNat, 0]
def k0_off1297 (v4918 : BitVec 32) : Fin 2 → Nat :=
  let v4919 : BitVec 32 := v4918
  let c0_i32_2999 : BitVec 32 := 0#32
  ![v4919.toNat, 0]

def k0_chk320 (i : grid0.Coords) (v4918 : BitVec 32) : Prop :=
  (∀ (k0_h2 : k0_cond2 i = 1#1), 8 ∣ (k0_mult639 v4918).toNat) ∧
  (∀ (k0_h2 : k0_cond2 i = 1#1), ∀ a, (k0_off1297 v4918) a + S8x128.size a ≤ S131072x128.size a)
theorem k0_mult639_dvd : ∀ (i : grid0.Coords) (v4918 : BitVec 32) (k0_hw320 : k0_chk320 i v4918), ∀ (k0_h2 : k0_cond2 i = 1#1), 8 ∣ (k0_mult639 v4918).toNat := fun i v4918 k0_hw320 k0_h2 => k0_hw320.1 k0_h2
theorem k0_off1297_inb : ∀ (i : grid0.Coords) (v4918 : BitVec 32) (k0_hw320 : k0_chk320 i v4918), ∀ (k0_h2 : k0_cond2 i = 1#1), ∀ a, (k0_off1297 v4918) a + S8x128.size a ≤ S131072x128.size a := fun i v4918 k0_hw320 k0_h2 => k0_hw320.2 k0_h2

def k0_off1298 (i : grid0.Coords) : Fin 3 → Nat :=
  let c0_3005 : Index := 0#32
  let c0_3006 : Index := 0#32
  let arg1 : BitVec 32 := BitVec.ofNat 32 (i 1).val
  let c2_i32_3000 : BitVec 32 := 2#32
  let v4927 : BitVec 32 := Scalar.muli arg1 c2_i32_3000
  let c1_i32_3001 : BitVec 32 := 1#32
  let v4928 : BitVec 32 := Scalar.addi v4927 c1_i32_3001
  let c256_i32_3002 : BitVec 32 := 256#32
  let v4929 : BitVec 32 := Scalar.muli v4928 c256_i32_3002
  let c63_i32_3003 : BitVec 32 := 63#32
  let v4930 : BitVec 32 := Scalar.addi v4929 c63_i32_3003
  let v4932 : Index := Scalar.indexCast v4930
  ![0, 0, v4932.toNat]
def k0_mult641 (v4933 : BitVec 32) : BitVec 32 :=
  v4933

def k0_mult642 (i : grid0.Coords) : BitVec 32 :=
  let arg1 : BitVec 32 := BitVec.ofNat 32 (i 1).val
  let c2_i32_3000 : BitVec 32 := 2#32
  let v4927 : BitVec 32 := Scalar.muli arg1 c2_i32_3000
  let c1_i32_3001 : BitVec 32 := 1#32
  let v4928 : BitVec 32 := Scalar.addi v4927 c1_i32_3001
  let c256_i32_3002 : BitVec 32 := 256#32
  let v4929 : BitVec 32 := Scalar.muli v4928 c256_i32_3002
  let c63_i32_3003 : BitVec 32 := 63#32
  let v4930 : BitVec 32 := Scalar.addi v4929 c63_i32_3003
  let c8_i32_3007 : BitVec 32 := 8#32
  let v4935 : BitVec 32 := Scalar.muli v4930 c8_i32_3007
  v4935
def k0_off1299 (i : grid0.Coords) : Fin 1 → Nat :=
  let c1_i32_3004 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4931 : BitVec 32 := Scalar.subi c1_i32_3004 v9
  ![v4931.toNat]
def k0_off1300 (i : grid0.Coords) : Fin 3 → Nat :=
  let c1_i32_3004 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4931 : BitVec 32 := Scalar.subi c1_i32_3004 v9
  let arg1 : BitVec 32 := BitVec.ofNat 32 (i 1).val
  let c2_i32_3000 : BitVec 32 := 2#32
  let v4927 : BitVec 32 := Scalar.muli arg1 c2_i32_3000
  let c1_i32_3001 : BitVec 32 := 1#32
  let v4928 : BitVec 32 := Scalar.addi v4927 c1_i32_3001
  let c256_i32_3002 : BitVec 32 := 256#32
  let v4929 : BitVec 32 := Scalar.muli v4928 c256_i32_3002
  let c63_i32_3003 : BitVec 32 := 63#32
  let v4930 : BitVec 32 := Scalar.addi v4929 c63_i32_3003
  let c8_i32_3007 : BitVec 32 := 8#32
  let v4935 : BitVec 32 := Scalar.muli v4930 c8_i32_3007
  let v4936 : BitVec 32 := v4935
  let c0_i32_3008 : BitVec 32 := 0#32
  ![v4931.toNat, v4936.toNat, 0]
def k0_off1301 (v4933 : BitVec 32) : Fin 2 → Nat :=
  let v4934 : BitVec 32 := v4933
  let c0_i32_3009 : BitVec 32 := 0#32
  ![v4934.toNat, 0]

def k0_chk321 (i : grid0.Coords) (v4933 : BitVec 32) : Prop :=
  (∀ (k0_h2 : k0_cond2 i = 1#1), 8 ∣ (k0_mult641 v4933).toNat) ∧
  (∀ (k0_h2 : k0_cond2 i = 1#1), ∀ a, (k0_off1301 v4933) a + S8x128.size a ≤ S131072x128.size a)
theorem k0_mult641_dvd : ∀ (i : grid0.Coords) (v4933 : BitVec 32) (k0_hw321 : k0_chk321 i v4933), ∀ (k0_h2 : k0_cond2 i = 1#1), 8 ∣ (k0_mult641 v4933).toNat := fun i v4933 k0_hw321 k0_h2 => k0_hw321.1 k0_h2
theorem k0_off1301_inb : ∀ (i : grid0.Coords) (v4933 : BitVec 32) (k0_hw321 : k0_chk321 i v4933), ∀ (k0_h2 : k0_cond2 i = 1#1), ∀ a, (k0_off1301 v4933) a + S8x128.size a ≤ S131072x128.size a := fun i v4933 k0_hw321 k0_h2 => k0_hw321.2 k0_h2

def k0_off1302 (i : grid0.Coords) : Fin 3 → Nat :=
  let c0_3015 : Index := 0#32
  let c0_3016 : Index := 0#32
  let arg1 : BitVec 32 := BitVec.ofNat 32 (i 1).val
  let c2_i32_3010 : BitVec 32 := 2#32
  let v4942 : BitVec 32 := Scalar.muli arg1 c2_i32_3010
  let c1_i32_3011 : BitVec 32 := 1#32
  let v4943 : BitVec 32 := Scalar.addi v4942 c1_i32_3011
  let c256_i32_3012 : BitVec 32 := 256#32
  let v4944 : BitVec 32 := Scalar.muli v4943 c256_i32_3012
  let c64_i32_3013 : BitVec 32 := 64#32
  let v4945 : BitVec 32 := Scalar.addi v4944 c64_i32_3013
  let v4947 : Index := Scalar.indexCast v4945
  ![0, 0, v4947.toNat]
def k0_mult643 (v4948 : BitVec 32) : BitVec 32 :=
  v4948

def k0_mult644 (i : grid0.Coords) : BitVec 32 :=
  let arg1 : BitVec 32 := BitVec.ofNat 32 (i 1).val
  let c2_i32_3010 : BitVec 32 := 2#32
  let v4942 : BitVec 32 := Scalar.muli arg1 c2_i32_3010
  let c1_i32_3011 : BitVec 32 := 1#32
  let v4943 : BitVec 32 := Scalar.addi v4942 c1_i32_3011
  let c256_i32_3012 : BitVec 32 := 256#32
  let v4944 : BitVec 32 := Scalar.muli v4943 c256_i32_3012
  let c64_i32_3013 : BitVec 32 := 64#32
  let v4945 : BitVec 32 := Scalar.addi v4944 c64_i32_3013
  let c8_i32_3017 : BitVec 32 := 8#32
  let v4950 : BitVec 32 := Scalar.muli v4945 c8_i32_3017
  v4950
def k0_off1303 (i : grid0.Coords) : Fin 1 → Nat :=
  let c1_i32_3014 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4946 : BitVec 32 := Scalar.subi c1_i32_3014 v9
  ![v4946.toNat]
def k0_off1304 (i : grid0.Coords) : Fin 3 → Nat :=
  let c1_i32_3014 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4946 : BitVec 32 := Scalar.subi c1_i32_3014 v9
  let arg1 : BitVec 32 := BitVec.ofNat 32 (i 1).val
  let c2_i32_3010 : BitVec 32 := 2#32
  let v4942 : BitVec 32 := Scalar.muli arg1 c2_i32_3010
  let c1_i32_3011 : BitVec 32 := 1#32
  let v4943 : BitVec 32 := Scalar.addi v4942 c1_i32_3011
  let c256_i32_3012 : BitVec 32 := 256#32
  let v4944 : BitVec 32 := Scalar.muli v4943 c256_i32_3012
  let c64_i32_3013 : BitVec 32 := 64#32
  let v4945 : BitVec 32 := Scalar.addi v4944 c64_i32_3013
  let c8_i32_3017 : BitVec 32 := 8#32
  let v4950 : BitVec 32 := Scalar.muli v4945 c8_i32_3017
  let v4951 : BitVec 32 := v4950
  let c0_i32_3018 : BitVec 32 := 0#32
  ![v4946.toNat, v4951.toNat, 0]
def k0_off1305 (v4948 : BitVec 32) : Fin 2 → Nat :=
  let v4949 : BitVec 32 := v4948
  let c0_i32_3019 : BitVec 32 := 0#32
  ![v4949.toNat, 0]

def k0_chk322 (i : grid0.Coords) (v4948 : BitVec 32) : Prop :=
  (∀ (k0_h2 : k0_cond2 i = 1#1), 8 ∣ (k0_mult643 v4948).toNat) ∧
  (∀ (k0_h2 : k0_cond2 i = 1#1), ∀ a, (k0_off1305 v4948) a + S8x128.size a ≤ S131072x128.size a)
theorem k0_mult643_dvd : ∀ (i : grid0.Coords) (v4948 : BitVec 32) (k0_hw322 : k0_chk322 i v4948), ∀ (k0_h2 : k0_cond2 i = 1#1), 8 ∣ (k0_mult643 v4948).toNat := fun i v4948 k0_hw322 k0_h2 => k0_hw322.1 k0_h2
theorem k0_off1305_inb : ∀ (i : grid0.Coords) (v4948 : BitVec 32) (k0_hw322 : k0_chk322 i v4948), ∀ (k0_h2 : k0_cond2 i = 1#1), ∀ a, (k0_off1305 v4948) a + S8x128.size a ≤ S131072x128.size a := fun i v4948 k0_hw322 k0_h2 => k0_hw322.2 k0_h2

def k0_off1306 (i : grid0.Coords) : Fin 3 → Nat :=
  let c0_3025 : Index := 0#32
  let c0_3026 : Index := 0#32
  let arg1 : BitVec 32 := BitVec.ofNat 32 (i 1).val
  let c2_i32_3020 : BitVec 32 := 2#32
  let v4957 : BitVec 32 := Scalar.muli arg1 c2_i32_3020
  let c1_i32_3021 : BitVec 32 := 1#32
  let v4958 : BitVec 32 := Scalar.addi v4957 c1_i32_3021
  let c256_i32_3022 : BitVec 32 := 256#32
  let v4959 : BitVec 32 := Scalar.muli v4958 c256_i32_3022
  let c65_i32_3023 : BitVec 32 := 65#32
  let v4960 : BitVec 32 := Scalar.addi v4959 c65_i32_3023
  let v4962 : Index := Scalar.indexCast v4960
  ![0, 0, v4962.toNat]
def k0_mult645 (v4963 : BitVec 32) : BitVec 32 :=
  v4963

def k0_mult646 (i : grid0.Coords) : BitVec 32 :=
  let arg1 : BitVec 32 := BitVec.ofNat 32 (i 1).val
  let c2_i32_3020 : BitVec 32 := 2#32
  let v4957 : BitVec 32 := Scalar.muli arg1 c2_i32_3020
  let c1_i32_3021 : BitVec 32 := 1#32
  let v4958 : BitVec 32 := Scalar.addi v4957 c1_i32_3021
  let c256_i32_3022 : BitVec 32 := 256#32
  let v4959 : BitVec 32 := Scalar.muli v4958 c256_i32_3022
  let c65_i32_3023 : BitVec 32 := 65#32
  let v4960 : BitVec 32 := Scalar.addi v4959 c65_i32_3023
  let c8_i32_3027 : BitVec 32 := 8#32
  let v4965 : BitVec 32 := Scalar.muli v4960 c8_i32_3027
  v4965
def k0_off1307 (i : grid0.Coords) : Fin 1 → Nat :=
  let c1_i32_3024 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4961 : BitVec 32 := Scalar.subi c1_i32_3024 v9
  ![v4961.toNat]
def k0_off1308 (i : grid0.Coords) : Fin 3 → Nat :=
  let c1_i32_3024 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4961 : BitVec 32 := Scalar.subi c1_i32_3024 v9
  let arg1 : BitVec 32 := BitVec.ofNat 32 (i 1).val
  let c2_i32_3020 : BitVec 32 := 2#32
  let v4957 : BitVec 32 := Scalar.muli arg1 c2_i32_3020
  let c1_i32_3021 : BitVec 32 := 1#32
  let v4958 : BitVec 32 := Scalar.addi v4957 c1_i32_3021
  let c256_i32_3022 : BitVec 32 := 256#32
  let v4959 : BitVec 32 := Scalar.muli v4958 c256_i32_3022
  let c65_i32_3023 : BitVec 32 := 65#32
  let v4960 : BitVec 32 := Scalar.addi v4959 c65_i32_3023
  let c8_i32_3027 : BitVec 32 := 8#32
  let v4965 : BitVec 32 := Scalar.muli v4960 c8_i32_3027
  let v4966 : BitVec 32 := v4965
  let c0_i32_3028 : BitVec 32 := 0#32
  ![v4961.toNat, v4966.toNat, 0]
def k0_off1309 (v4963 : BitVec 32) : Fin 2 → Nat :=
  let v4964 : BitVec 32 := v4963
  let c0_i32_3029 : BitVec 32 := 0#32
  ![v4964.toNat, 0]

def k0_chk323 (i : grid0.Coords) (v4963 : BitVec 32) : Prop :=
  (∀ (k0_h2 : k0_cond2 i = 1#1), 8 ∣ (k0_mult645 v4963).toNat) ∧
  (∀ (k0_h2 : k0_cond2 i = 1#1), ∀ a, (k0_off1309 v4963) a + S8x128.size a ≤ S131072x128.size a)
theorem k0_mult645_dvd : ∀ (i : grid0.Coords) (v4963 : BitVec 32) (k0_hw323 : k0_chk323 i v4963), ∀ (k0_h2 : k0_cond2 i = 1#1), 8 ∣ (k0_mult645 v4963).toNat := fun i v4963 k0_hw323 k0_h2 => k0_hw323.1 k0_h2
theorem k0_off1309_inb : ∀ (i : grid0.Coords) (v4963 : BitVec 32) (k0_hw323 : k0_chk323 i v4963), ∀ (k0_h2 : k0_cond2 i = 1#1), ∀ a, (k0_off1309 v4963) a + S8x128.size a ≤ S131072x128.size a := fun i v4963 k0_hw323 k0_h2 => k0_hw323.2 k0_h2

def k0_off1310 (i : grid0.Coords) : Fin 3 → Nat :=
  let c0_3035 : Index := 0#32
  let c0_3036 : Index := 0#32
  let arg1 : BitVec 32 := BitVec.ofNat 32 (i 1).val
  let c2_i32_3030 : BitVec 32 := 2#32
  let v4972 : BitVec 32 := Scalar.muli arg1 c2_i32_3030
  let c1_i32_3031 : BitVec 32 := 1#32
  let v4973 : BitVec 32 := Scalar.addi v4972 c1_i32_3031
  let c256_i32_3032 : BitVec 32 := 256#32
  let v4974 : BitVec 32 := Scalar.muli v4973 c256_i32_3032
  let c66_i32_3033 : BitVec 32 := 66#32
  let v4975 : BitVec 32 := Scalar.addi v4974 c66_i32_3033
  let v4977 : Index := Scalar.indexCast v4975
  ![0, 0, v4977.toNat]
def k0_mult647 (v4978 : BitVec 32) : BitVec 32 :=
  v4978

def k0_mult648 (i : grid0.Coords) : BitVec 32 :=
  let arg1 : BitVec 32 := BitVec.ofNat 32 (i 1).val
  let c2_i32_3030 : BitVec 32 := 2#32
  let v4972 : BitVec 32 := Scalar.muli arg1 c2_i32_3030
  let c1_i32_3031 : BitVec 32 := 1#32
  let v4973 : BitVec 32 := Scalar.addi v4972 c1_i32_3031
  let c256_i32_3032 : BitVec 32 := 256#32
  let v4974 : BitVec 32 := Scalar.muli v4973 c256_i32_3032
  let c66_i32_3033 : BitVec 32 := 66#32
  let v4975 : BitVec 32 := Scalar.addi v4974 c66_i32_3033
  let c8_i32_3037 : BitVec 32 := 8#32
  let v4980 : BitVec 32 := Scalar.muli v4975 c8_i32_3037
  v4980
def k0_off1311 (i : grid0.Coords) : Fin 1 → Nat :=
  let c1_i32_3034 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4976 : BitVec 32 := Scalar.subi c1_i32_3034 v9
  ![v4976.toNat]
def k0_off1312 (i : grid0.Coords) : Fin 3 → Nat :=
  let c1_i32_3034 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4976 : BitVec 32 := Scalar.subi c1_i32_3034 v9
  let arg1 : BitVec 32 := BitVec.ofNat 32 (i 1).val
  let c2_i32_3030 : BitVec 32 := 2#32
  let v4972 : BitVec 32 := Scalar.muli arg1 c2_i32_3030
  let c1_i32_3031 : BitVec 32 := 1#32
  let v4973 : BitVec 32 := Scalar.addi v4972 c1_i32_3031
  let c256_i32_3032 : BitVec 32 := 256#32
  let v4974 : BitVec 32 := Scalar.muli v4973 c256_i32_3032
  let c66_i32_3033 : BitVec 32 := 66#32
  let v4975 : BitVec 32 := Scalar.addi v4974 c66_i32_3033
  let c8_i32_3037 : BitVec 32 := 8#32
  let v4980 : BitVec 32 := Scalar.muli v4975 c8_i32_3037
  let v4981 : BitVec 32 := v4980
  let c0_i32_3038 : BitVec 32 := 0#32
  ![v4976.toNat, v4981.toNat, 0]
def k0_off1313 (v4978 : BitVec 32) : Fin 2 → Nat :=
  let v4979 : BitVec 32 := v4978
  let c0_i32_3039 : BitVec 32 := 0#32
  ![v4979.toNat, 0]

def k0_chk324 (i : grid0.Coords) (v4978 : BitVec 32) : Prop :=
  (∀ (k0_h2 : k0_cond2 i = 1#1), 8 ∣ (k0_mult647 v4978).toNat) ∧
  (∀ (k0_h2 : k0_cond2 i = 1#1), ∀ a, (k0_off1313 v4978) a + S8x128.size a ≤ S131072x128.size a)
theorem k0_mult647_dvd : ∀ (i : grid0.Coords) (v4978 : BitVec 32) (k0_hw324 : k0_chk324 i v4978), ∀ (k0_h2 : k0_cond2 i = 1#1), 8 ∣ (k0_mult647 v4978).toNat := fun i v4978 k0_hw324 k0_h2 => k0_hw324.1 k0_h2
theorem k0_off1313_inb : ∀ (i : grid0.Coords) (v4978 : BitVec 32) (k0_hw324 : k0_chk324 i v4978), ∀ (k0_h2 : k0_cond2 i = 1#1), ∀ a, (k0_off1313 v4978) a + S8x128.size a ≤ S131072x128.size a := fun i v4978 k0_hw324 k0_h2 => k0_hw324.2 k0_h2

def k0_off1314 (i : grid0.Coords) : Fin 3 → Nat :=
  let c0_3045 : Index := 0#32
  let c0_3046 : Index := 0#32
  let arg1 : BitVec 32 := BitVec.ofNat 32 (i 1).val
  let c2_i32_3040 : BitVec 32 := 2#32
  let v4987 : BitVec 32 := Scalar.muli arg1 c2_i32_3040
  let c1_i32_3041 : BitVec 32 := 1#32
  let v4988 : BitVec 32 := Scalar.addi v4987 c1_i32_3041
  let c256_i32_3042 : BitVec 32 := 256#32
  let v4989 : BitVec 32 := Scalar.muli v4988 c256_i32_3042
  let c67_i32_3043 : BitVec 32 := 67#32
  let v4990 : BitVec 32 := Scalar.addi v4989 c67_i32_3043
  let v4992 : Index := Scalar.indexCast v4990
  ![0, 0, v4992.toNat]
def k0_mult649 (v4993 : BitVec 32) : BitVec 32 :=
  v4993

def k0_mult650 (i : grid0.Coords) : BitVec 32 :=
  let arg1 : BitVec 32 := BitVec.ofNat 32 (i 1).val
  let c2_i32_3040 : BitVec 32 := 2#32
  let v4987 : BitVec 32 := Scalar.muli arg1 c2_i32_3040
  let c1_i32_3041 : BitVec 32 := 1#32
  let v4988 : BitVec 32 := Scalar.addi v4987 c1_i32_3041
  let c256_i32_3042 : BitVec 32 := 256#32
  let v4989 : BitVec 32 := Scalar.muli v4988 c256_i32_3042
  let c67_i32_3043 : BitVec 32 := 67#32
  let v4990 : BitVec 32 := Scalar.addi v4989 c67_i32_3043
  let c8_i32_3047 : BitVec 32 := 8#32
  let v4995 : BitVec 32 := Scalar.muli v4990 c8_i32_3047
  v4995
def k0_off1315 (i : grid0.Coords) : Fin 1 → Nat :=
  let c1_i32_3044 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4991 : BitVec 32 := Scalar.subi c1_i32_3044 v9
  ![v4991.toNat]
def k0_off1316 (i : grid0.Coords) : Fin 3 → Nat :=
  let c1_i32_3044 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4991 : BitVec 32 := Scalar.subi c1_i32_3044 v9
  let arg1 : BitVec 32 := BitVec.ofNat 32 (i 1).val
  let c2_i32_3040 : BitVec 32 := 2#32
  let v4987 : BitVec 32 := Scalar.muli arg1 c2_i32_3040
  let c1_i32_3041 : BitVec 32 := 1#32
  let v4988 : BitVec 32 := Scalar.addi v4987 c1_i32_3041
  let c256_i32_3042 : BitVec 32 := 256#32
  let v4989 : BitVec 32 := Scalar.muli v4988 c256_i32_3042
  let c67_i32_3043 : BitVec 32 := 67#32
  let v4990 : BitVec 32 := Scalar.addi v4989 c67_i32_3043
  let c8_i32_3047 : BitVec 32 := 8#32
  let v4995 : BitVec 32 := Scalar.muli v4990 c8_i32_3047
  let v4996 : BitVec 32 := v4995
  let c0_i32_3048 : BitVec 32 := 0#32
  ![v4991.toNat, v4996.toNat, 0]
def k0_off1317 (v4993 : BitVec 32) : Fin 2 → Nat :=
  let v4994 : BitVec 32 := v4993
  let c0_i32_3049 : BitVec 32 := 0#32
  ![v4994.toNat, 0]

def k0_chk325 (i : grid0.Coords) (v4993 : BitVec 32) : Prop :=
  (∀ (k0_h2 : k0_cond2 i = 1#1), 8 ∣ (k0_mult649 v4993).toNat) ∧
  (∀ (k0_h2 : k0_cond2 i = 1#1), ∀ a, (k0_off1317 v4993) a + S8x128.size a ≤ S131072x128.size a)
theorem k0_mult649_dvd : ∀ (i : grid0.Coords) (v4993 : BitVec 32) (k0_hw325 : k0_chk325 i v4993), ∀ (k0_h2 : k0_cond2 i = 1#1), 8 ∣ (k0_mult649 v4993).toNat := fun i v4993 k0_hw325 k0_h2 => k0_hw325.1 k0_h2
theorem k0_off1317_inb : ∀ (i : grid0.Coords) (v4993 : BitVec 32) (k0_hw325 : k0_chk325 i v4993), ∀ (k0_h2 : k0_cond2 i = 1#1), ∀ a, (k0_off1317 v4993) a + S8x128.size a ≤ S131072x128.size a := fun i v4993 k0_hw325 k0_h2 => k0_hw325.2 k0_h2

def k0_off1318 (i : grid0.Coords) : Fin 3 → Nat :=
  let c0_3055 : Index := 0#32
  let c0_3056 : Index := 0#32
  let arg1 : BitVec 32 := BitVec.ofNat 32 (i 1).val
  let c2_i32_3050 : BitVec 32 := 2#32
  let v5002 : BitVec 32 := Scalar.muli arg1 c2_i32_3050
  let c1_i32_3051 : BitVec 32 := 1#32
  let v5003 : BitVec 32 := Scalar.addi v5002 c1_i32_3051
  let c256_i32_3052 : BitVec 32 := 256#32
  let v5004 : BitVec 32 := Scalar.muli v5003 c256_i32_3052
  let c68_i32_3053 : BitVec 32 := 68#32
  let v5005 : BitVec 32 := Scalar.addi v5004 c68_i32_3053
  let v5007 : Index := Scalar.indexCast v5005
  ![0, 0, v5007.toNat]
def k0_mult651 (v5008 : BitVec 32) : BitVec 32 :=
  v5008

def k0_mult652 (i : grid0.Coords) : BitVec 32 :=
  let arg1 : BitVec 32 := BitVec.ofNat 32 (i 1).val
  let c2_i32_3050 : BitVec 32 := 2#32
  let v5002 : BitVec 32 := Scalar.muli arg1 c2_i32_3050
  let c1_i32_3051 : BitVec 32 := 1#32
  let v5003 : BitVec 32 := Scalar.addi v5002 c1_i32_3051
  let c256_i32_3052 : BitVec 32 := 256#32
  let v5004 : BitVec 32 := Scalar.muli v5003 c256_i32_3052
  let c68_i32_3053 : BitVec 32 := 68#32
  let v5005 : BitVec 32 := Scalar.addi v5004 c68_i32_3053
  let c8_i32_3057 : BitVec 32 := 8#32
  let v5010 : BitVec 32 := Scalar.muli v5005 c8_i32_3057
  v5010
def k0_off1319 (i : grid0.Coords) : Fin 1 → Nat :=
  let c1_i32_3054 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5006 : BitVec 32 := Scalar.subi c1_i32_3054 v9
  ![v5006.toNat]
def k0_off1320 (i : grid0.Coords) : Fin 3 → Nat :=
  let c1_i32_3054 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5006 : BitVec 32 := Scalar.subi c1_i32_3054 v9
  let arg1 : BitVec 32 := BitVec.ofNat 32 (i 1).val
  let c2_i32_3050 : BitVec 32 := 2#32
  let v5002 : BitVec 32 := Scalar.muli arg1 c2_i32_3050
  let c1_i32_3051 : BitVec 32 := 1#32
  let v5003 : BitVec 32 := Scalar.addi v5002 c1_i32_3051
  let c256_i32_3052 : BitVec 32 := 256#32
  let v5004 : BitVec 32 := Scalar.muli v5003 c256_i32_3052
  let c68_i32_3053 : BitVec 32 := 68#32
  let v5005 : BitVec 32 := Scalar.addi v5004 c68_i32_3053
  let c8_i32_3057 : BitVec 32 := 8#32
  let v5010 : BitVec 32 := Scalar.muli v5005 c8_i32_3057
  let v5011 : BitVec 32 := v5010
  let c0_i32_3058 : BitVec 32 := 0#32
  ![v5006.toNat, v5011.toNat, 0]
def k0_off1321 (v5008 : BitVec 32) : Fin 2 → Nat :=
  let v5009 : BitVec 32 := v5008
  let c0_i32_3059 : BitVec 32 := 0#32
  ![v5009.toNat, 0]

def k0_chk326 (i : grid0.Coords) (v5008 : BitVec 32) : Prop :=
  (∀ (k0_h2 : k0_cond2 i = 1#1), 8 ∣ (k0_mult651 v5008).toNat) ∧
  (∀ (k0_h2 : k0_cond2 i = 1#1), ∀ a, (k0_off1321 v5008) a + S8x128.size a ≤ S131072x128.size a)
theorem k0_mult651_dvd : ∀ (i : grid0.Coords) (v5008 : BitVec 32) (k0_hw326 : k0_chk326 i v5008), ∀ (k0_h2 : k0_cond2 i = 1#1), 8 ∣ (k0_mult651 v5008).toNat := fun i v5008 k0_hw326 k0_h2 => k0_hw326.1 k0_h2
theorem k0_off1321_inb : ∀ (i : grid0.Coords) (v5008 : BitVec 32) (k0_hw326 : k0_chk326 i v5008), ∀ (k0_h2 : k0_cond2 i = 1#1), ∀ a, (k0_off1321 v5008) a + S8x128.size a ≤ S131072x128.size a := fun i v5008 k0_hw326 k0_h2 => k0_hw326.2 k0_h2

def k0_off1322 (i : grid0.Coords) : Fin 3 → Nat :=
  let c0_3065 : Index := 0#32
  let c0_3066 : Index := 0#32
  let arg1 : BitVec 32 := BitVec.ofNat 32 (i 1).val
  let c2_i32_3060 : BitVec 32 := 2#32
  let v5017 : BitVec 32 := Scalar.muli arg1 c2_i32_3060
  let c1_i32_3061 : BitVec 32 := 1#32
  let v5018 : BitVec 32 := Scalar.addi v5017 c1_i32_3061
  let c256_i32_3062 : BitVec 32 := 256#32
  let v5019 : BitVec 32 := Scalar.muli v5018 c256_i32_3062
  let c69_i32_3063 : BitVec 32 := 69#32
  let v5020 : BitVec 32 := Scalar.addi v5019 c69_i32_3063
  let v5022 : Index := Scalar.indexCast v5020
  ![0, 0, v5022.toNat]
def k0_mult653 (v5023 : BitVec 32) : BitVec 32 :=
  v5023

def k0_mult654 (i : grid0.Coords) : BitVec 32 :=
  let arg1 : BitVec 32 := BitVec.ofNat 32 (i 1).val
  let c2_i32_3060 : BitVec 32 := 2#32
  let v5017 : BitVec 32 := Scalar.muli arg1 c2_i32_3060
  let c1_i32_3061 : BitVec 32 := 1#32
  let v5018 : BitVec 32 := Scalar.addi v5017 c1_i32_3061
  let c256_i32_3062 : BitVec 32 := 256#32
  let v5019 : BitVec 32 := Scalar.muli v5018 c256_i32_3062
  let c69_i32_3063 : BitVec 32 := 69#32
  let v5020 : BitVec 32 := Scalar.addi v5019 c69_i32_3063
  let c8_i32_3067 : BitVec 32 := 8#32
  let v5025 : BitVec 32 := Scalar.muli v5020 c8_i32_3067
  v5025
def k0_off1323 (i : grid0.Coords) : Fin 1 → Nat :=
  let c1_i32_3064 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5021 : BitVec 32 := Scalar.subi c1_i32_3064 v9
  ![v5021.toNat]
def k0_off1324 (i : grid0.Coords) : Fin 3 → Nat :=
  let c1_i32_3064 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5021 : BitVec 32 := Scalar.subi c1_i32_3064 v9
  let arg1 : BitVec 32 := BitVec.ofNat 32 (i 1).val
  let c2_i32_3060 : BitVec 32 := 2#32
  let v5017 : BitVec 32 := Scalar.muli arg1 c2_i32_3060
  let c1_i32_3061 : BitVec 32 := 1#32
  let v5018 : BitVec 32 := Scalar.addi v5017 c1_i32_3061
  let c256_i32_3062 : BitVec 32 := 256#32
  let v5019 : BitVec 32 := Scalar.muli v5018 c256_i32_3062
  let c69_i32_3063 : BitVec 32 := 69#32
  let v5020 : BitVec 32 := Scalar.addi v5019 c69_i32_3063
  let c8_i32_3067 : BitVec 32 := 8#32
  let v5025 : BitVec 32 := Scalar.muli v5020 c8_i32_3067
  let v5026 : BitVec 32 := v5025
  let c0_i32_3068 : BitVec 32 := 0#32
  ![v5021.toNat, v5026.toNat, 0]
def k0_off1325 (v5023 : BitVec 32) : Fin 2 → Nat :=
  let v5024 : BitVec 32 := v5023
  let c0_i32_3069 : BitVec 32 := 0#32
  ![v5024.toNat, 0]

def k0_chk327 (i : grid0.Coords) (v5023 : BitVec 32) : Prop :=
  (∀ (k0_h2 : k0_cond2 i = 1#1), 8 ∣ (k0_mult653 v5023).toNat) ∧
  (∀ (k0_h2 : k0_cond2 i = 1#1), ∀ a, (k0_off1325 v5023) a + S8x128.size a ≤ S131072x128.size a)
theorem k0_mult653_dvd : ∀ (i : grid0.Coords) (v5023 : BitVec 32) (k0_hw327 : k0_chk327 i v5023), ∀ (k0_h2 : k0_cond2 i = 1#1), 8 ∣ (k0_mult653 v5023).toNat := fun i v5023 k0_hw327 k0_h2 => k0_hw327.1 k0_h2
theorem k0_off1325_inb : ∀ (i : grid0.Coords) (v5023 : BitVec 32) (k0_hw327 : k0_chk327 i v5023), ∀ (k0_h2 : k0_cond2 i = 1#1), ∀ a, (k0_off1325 v5023) a + S8x128.size a ≤ S131072x128.size a := fun i v5023 k0_hw327 k0_h2 => k0_hw327.2 k0_h2

def k0_off1326 (i : grid0.Coords) : Fin 3 → Nat :=
  let c0_3075 : Index := 0#32
  let c0_3076 : Index := 0#32
  let arg1 : BitVec 32 := BitVec.ofNat 32 (i 1).val
  let c2_i32_3070 : BitVec 32 := 2#32
  let v5032 : BitVec 32 := Scalar.muli arg1 c2_i32_3070
  let c1_i32_3071 : BitVec 32 := 1#32
  let v5033 : BitVec 32 := Scalar.addi v5032 c1_i32_3071
  let c256_i32_3072 : BitVec 32 := 256#32
  let v5034 : BitVec 32 := Scalar.muli v5033 c256_i32_3072
  let c70_i32_3073 : BitVec 32 := 70#32
  let v5035 : BitVec 32 := Scalar.addi v5034 c70_i32_3073
  let v5037 : Index := Scalar.indexCast v5035
  ![0, 0, v5037.toNat]
def k0_mult655 (v5038 : BitVec 32) : BitVec 32 :=
  v5038

def k0_mult656 (i : grid0.Coords) : BitVec 32 :=
  let arg1 : BitVec 32 := BitVec.ofNat 32 (i 1).val
  let c2_i32_3070 : BitVec 32 := 2#32
  let v5032 : BitVec 32 := Scalar.muli arg1 c2_i32_3070
  let c1_i32_3071 : BitVec 32 := 1#32
  let v5033 : BitVec 32 := Scalar.addi v5032 c1_i32_3071
  let c256_i32_3072 : BitVec 32 := 256#32
  let v5034 : BitVec 32 := Scalar.muli v5033 c256_i32_3072
  let c70_i32_3073 : BitVec 32 := 70#32
  let v5035 : BitVec 32 := Scalar.addi v5034 c70_i32_3073
  let c8_i32_3077 : BitVec 32 := 8#32
  let v5040 : BitVec 32 := Scalar.muli v5035 c8_i32_3077
  v5040
def k0_off1327 (i : grid0.Coords) : Fin 1 → Nat :=
  let c1_i32_3074 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5036 : BitVec 32 := Scalar.subi c1_i32_3074 v9
  ![v5036.toNat]
def k0_off1328 (i : grid0.Coords) : Fin 3 → Nat :=
  let c1_i32_3074 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5036 : BitVec 32 := Scalar.subi c1_i32_3074 v9
  let arg1 : BitVec 32 := BitVec.ofNat 32 (i 1).val
  let c2_i32_3070 : BitVec 32 := 2#32
  let v5032 : BitVec 32 := Scalar.muli arg1 c2_i32_3070
  let c1_i32_3071 : BitVec 32 := 1#32
  let v5033 : BitVec 32 := Scalar.addi v5032 c1_i32_3071
  let c256_i32_3072 : BitVec 32 := 256#32
  let v5034 : BitVec 32 := Scalar.muli v5033 c256_i32_3072
  let c70_i32_3073 : BitVec 32 := 70#32
  let v5035 : BitVec 32 := Scalar.addi v5034 c70_i32_3073
  let c8_i32_3077 : BitVec 32 := 8#32
  let v5040 : BitVec 32 := Scalar.muli v5035 c8_i32_3077
  let v5041 : BitVec 32 := v5040
  let c0_i32_3078 : BitVec 32 := 0#32
  ![v5036.toNat, v5041.toNat, 0]
def k0_off1329 (v5038 : BitVec 32) : Fin 2 → Nat :=
  let v5039 : BitVec 32 := v5038
  let c0_i32_3079 : BitVec 32 := 0#32
  ![v5039.toNat, 0]

def k0_chk328 (i : grid0.Coords) (v5038 : BitVec 32) : Prop :=
  (∀ (k0_h2 : k0_cond2 i = 1#1), 8 ∣ (k0_mult655 v5038).toNat) ∧
  (∀ (k0_h2 : k0_cond2 i = 1#1), ∀ a, (k0_off1329 v5038) a + S8x128.size a ≤ S131072x128.size a)
theorem k0_mult655_dvd : ∀ (i : grid0.Coords) (v5038 : BitVec 32) (k0_hw328 : k0_chk328 i v5038), ∀ (k0_h2 : k0_cond2 i = 1#1), 8 ∣ (k0_mult655 v5038).toNat := fun i v5038 k0_hw328 k0_h2 => k0_hw328.1 k0_h2
theorem k0_off1329_inb : ∀ (i : grid0.Coords) (v5038 : BitVec 32) (k0_hw328 : k0_chk328 i v5038), ∀ (k0_h2 : k0_cond2 i = 1#1), ∀ a, (k0_off1329 v5038) a + S8x128.size a ≤ S131072x128.size a := fun i v5038 k0_hw328 k0_h2 => k0_hw328.2 k0_h2

def k0_off1330 (i : grid0.Coords) : Fin 3 → Nat :=
  let c0_3085 : Index := 0#32
  let c0_3086 : Index := 0#32
  let arg1 : BitVec 32 := BitVec.ofNat 32 (i 1).val
  let c2_i32_3080 : BitVec 32 := 2#32
  let v5047 : BitVec 32 := Scalar.muli arg1 c2_i32_3080
  let c1_i32_3081 : BitVec 32 := 1#32
  let v5048 : BitVec 32 := Scalar.addi v5047 c1_i32_3081
  let c256_i32_3082 : BitVec 32 := 256#32
  let v5049 : BitVec 32 := Scalar.muli v5048 c256_i32_3082
  let c71_i32_3083 : BitVec 32 := 71#32
  let v5050 : BitVec 32 := Scalar.addi v5049 c71_i32_3083
  let v5052 : Index := Scalar.indexCast v5050
  ![0, 0, v5052.toNat]
def k0_mult657 (v5053 : BitVec 32) : BitVec 32 :=
  v5053

def k0_mult658 (i : grid0.Coords) : BitVec 32 :=
  let arg1 : BitVec 32 := BitVec.ofNat 32 (i 1).val
  let c2_i32_3080 : BitVec 32 := 2#32
  let v5047 : BitVec 32 := Scalar.muli arg1 c2_i32_3080
  let c1_i32_3081 : BitVec 32 := 1#32
  let v5048 : BitVec 32 := Scalar.addi v5047 c1_i32_3081
  let c256_i32_3082 : BitVec 32 := 256#32
  let v5049 : BitVec 32 := Scalar.muli v5048 c256_i32_3082
  let c71_i32_3083 : BitVec 32 := 71#32
  let v5050 : BitVec 32 := Scalar.addi v5049 c71_i32_3083
  let c8_i32_3087 : BitVec 32 := 8#32
  let v5055 : BitVec 32 := Scalar.muli v5050 c8_i32_3087
  v5055
def k0_off1331 (i : grid0.Coords) : Fin 1 → Nat :=
  let c1_i32_3084 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5051 : BitVec 32 := Scalar.subi c1_i32_3084 v9
  ![v5051.toNat]
def k0_off1332 (i : grid0.Coords) : Fin 3 → Nat :=
  let c1_i32_3084 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5051 : BitVec 32 := Scalar.subi c1_i32_3084 v9
  let arg1 : BitVec 32 := BitVec.ofNat 32 (i 1).val
  let c2_i32_3080 : BitVec 32 := 2#32
  let v5047 : BitVec 32 := Scalar.muli arg1 c2_i32_3080
  let c1_i32_3081 : BitVec 32 := 1#32
  let v5048 : BitVec 32 := Scalar.addi v5047 c1_i32_3081
  let c256_i32_3082 : BitVec 32 := 256#32
  let v5049 : BitVec 32 := Scalar.muli v5048 c256_i32_3082
  let c71_i32_3083 : BitVec 32 := 71#32
  let v5050 : BitVec 32 := Scalar.addi v5049 c71_i32_3083
  let c8_i32_3087 : BitVec 32 := 8#32
  let v5055 : BitVec 32 := Scalar.muli v5050 c8_i32_3087
  let v5056 : BitVec 32 := v5055
  let c0_i32_3088 : BitVec 32 := 0#32
  ![v5051.toNat, v5056.toNat, 0]
def k0_off1333 (v5053 : BitVec 32) : Fin 2 → Nat :=
  let v5054 : BitVec 32 := v5053
  let c0_i32_3089 : BitVec 32 := 0#32
  ![v5054.toNat, 0]

def k0_chk329 (i : grid0.Coords) (v5053 : BitVec 32) : Prop :=
  (∀ (k0_h2 : k0_cond2 i = 1#1), 8 ∣ (k0_mult657 v5053).toNat) ∧
  (∀ (k0_h2 : k0_cond2 i = 1#1), ∀ a, (k0_off1333 v5053) a + S8x128.size a ≤ S131072x128.size a)
theorem k0_mult657_dvd : ∀ (i : grid0.Coords) (v5053 : BitVec 32) (k0_hw329 : k0_chk329 i v5053), ∀ (k0_h2 : k0_cond2 i = 1#1), 8 ∣ (k0_mult657 v5053).toNat := fun i v5053 k0_hw329 k0_h2 => k0_hw329.1 k0_h2
theorem k0_off1333_inb : ∀ (i : grid0.Coords) (v5053 : BitVec 32) (k0_hw329 : k0_chk329 i v5053), ∀ (k0_h2 : k0_cond2 i = 1#1), ∀ a, (k0_off1333 v5053) a + S8x128.size a ≤ S131072x128.size a := fun i v5053 k0_hw329 k0_h2 => k0_hw329.2 k0_h2

def k0_off1334 (i : grid0.Coords) : Fin 3 → Nat :=
  let c0_3095 : Index := 0#32
  let c0_3096 : Index := 0#32
  let arg1 : BitVec 32 := BitVec.ofNat 32 (i 1).val
  let c2_i32_3090 : BitVec 32 := 2#32
  let v5062 : BitVec 32 := Scalar.muli arg1 c2_i32_3090
  let c1_i32_3091 : BitVec 32 := 1#32
  let v5063 : BitVec 32 := Scalar.addi v5062 c1_i32_3091
  let c256_i32_3092 : BitVec 32 := 256#32
  let v5064 : BitVec 32 := Scalar.muli v5063 c256_i32_3092
  let c72_i32_3093 : BitVec 32 := 72#32
  let v5065 : BitVec 32 := Scalar.addi v5064 c72_i32_3093
  let v5067 : Index := Scalar.indexCast v5065
  ![0, 0, v5067.toNat]
def k0_mult659 (v5068 : BitVec 32) : BitVec 32 :=
  v5068

def k0_mult660 (i : grid0.Coords) : BitVec 32 :=
  let arg1 : BitVec 32 := BitVec.ofNat 32 (i 1).val
  let c2_i32_3090 : BitVec 32 := 2#32
  let v5062 : BitVec 32 := Scalar.muli arg1 c2_i32_3090
  let c1_i32_3091 : BitVec 32 := 1#32
  let v5063 : BitVec 32 := Scalar.addi v5062 c1_i32_3091
  let c256_i32_3092 : BitVec 32 := 256#32
  let v5064 : BitVec 32 := Scalar.muli v5063 c256_i32_3092
  let c72_i32_3093 : BitVec 32 := 72#32
  let v5065 : BitVec 32 := Scalar.addi v5064 c72_i32_3093
  let c8_i32_3097 : BitVec 32 := 8#32
  let v5070 : BitVec 32 := Scalar.muli v5065 c8_i32_3097
  v5070
def k0_off1335 (i : grid0.Coords) : Fin 1 → Nat :=
  let c1_i32_3094 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5066 : BitVec 32 := Scalar.subi c1_i32_3094 v9
  ![v5066.toNat]
def k0_off1336 (i : grid0.Coords) : Fin 3 → Nat :=
  let c1_i32_3094 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5066 : BitVec 32 := Scalar.subi c1_i32_3094 v9
  let arg1 : BitVec 32 := BitVec.ofNat 32 (i 1).val
  let c2_i32_3090 : BitVec 32 := 2#32
  let v5062 : BitVec 32 := Scalar.muli arg1 c2_i32_3090
  let c1_i32_3091 : BitVec 32 := 1#32
  let v5063 : BitVec 32 := Scalar.addi v5062 c1_i32_3091
  let c256_i32_3092 : BitVec 32 := 256#32
  let v5064 : BitVec 32 := Scalar.muli v5063 c256_i32_3092
  let c72_i32_3093 : BitVec 32 := 72#32
  let v5065 : BitVec 32 := Scalar.addi v5064 c72_i32_3093
  let c8_i32_3097 : BitVec 32 := 8#32
  let v5070 : BitVec 32 := Scalar.muli v5065 c8_i32_3097
  let v5071 : BitVec 32 := v5070
  let c0_i32_3098 : BitVec 32 := 0#32
  ![v5066.toNat, v5071.toNat, 0]
def k0_off1337 (v5068 : BitVec 32) : Fin 2 → Nat :=
  let v5069 : BitVec 32 := v5068
  let c0_i32_3099 : BitVec 32 := 0#32
  ![v5069.toNat, 0]

def k0_chk330 (i : grid0.Coords) (v5068 : BitVec 32) : Prop :=
  (∀ (k0_h2 : k0_cond2 i = 1#1), 8 ∣ (k0_mult659 v5068).toNat) ∧
  (∀ (k0_h2 : k0_cond2 i = 1#1), ∀ a, (k0_off1337 v5068) a + S8x128.size a ≤ S131072x128.size a)
theorem k0_mult659_dvd : ∀ (i : grid0.Coords) (v5068 : BitVec 32) (k0_hw330 : k0_chk330 i v5068), ∀ (k0_h2 : k0_cond2 i = 1#1), 8 ∣ (k0_mult659 v5068).toNat := fun i v5068 k0_hw330 k0_h2 => k0_hw330.1 k0_h2
theorem k0_off1337_inb : ∀ (i : grid0.Coords) (v5068 : BitVec 32) (k0_hw330 : k0_chk330 i v5068), ∀ (k0_h2 : k0_cond2 i = 1#1), ∀ a, (k0_off1337 v5068) a + S8x128.size a ≤ S131072x128.size a := fun i v5068 k0_hw330 k0_h2 => k0_hw330.2 k0_h2

def k0_off1338 (i : grid0.Coords) : Fin 3 → Nat :=
  let c0_3105 : Index := 0#32
  let c0_3106 : Index := 0#32
  let arg1 : BitVec 32 := BitVec.ofNat 32 (i 1).val
  let c2_i32_3100 : BitVec 32 := 2#32
  let v5077 : BitVec 32 := Scalar.muli arg1 c2_i32_3100
  let c1_i32_3101 : BitVec 32 := 1#32
  let v5078 : BitVec 32 := Scalar.addi v5077 c1_i32_3101
  let c256_i32_3102 : BitVec 32 := 256#32
  let v5079 : BitVec 32 := Scalar.muli v5078 c256_i32_3102
  let c73_i32_3103 : BitVec 32 := 73#32
  let v5080 : BitVec 32 := Scalar.addi v5079 c73_i32_3103
  let v5082 : Index := Scalar.indexCast v5080
  ![0, 0, v5082.toNat]
def k0_mult661 (v5083 : BitVec 32) : BitVec 32 :=
  v5083

def k0_mult662 (i : grid0.Coords) : BitVec 32 :=
  let arg1 : BitVec 32 := BitVec.ofNat 32 (i 1).val
  let c2_i32_3100 : BitVec 32 := 2#32
  let v5077 : BitVec 32 := Scalar.muli arg1 c2_i32_3100
  let c1_i32_3101 : BitVec 32 := 1#32
  let v5078 : BitVec 32 := Scalar.addi v5077 c1_i32_3101
  let c256_i32_3102 : BitVec 32 := 256#32
  let v5079 : BitVec 32 := Scalar.muli v5078 c256_i32_3102
  let c73_i32_3103 : BitVec 32 := 73#32
  let v5080 : BitVec 32 := Scalar.addi v5079 c73_i32_3103
  let c8_i32_3107 : BitVec 32 := 8#32
  let v5085 : BitVec 32 := Scalar.muli v5080 c8_i32_3107
  v5085
def k0_off1339 (i : grid0.Coords) : Fin 1 → Nat :=
  let c1_i32_3104 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5081 : BitVec 32 := Scalar.subi c1_i32_3104 v9
  ![v5081.toNat]

variable {F : FTy → Type} [FloatOps F]

def k0_off1340 (i : grid0.Coords) : Fin 3 → Nat :=
  let c1_i32_3104 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5081 : BitVec 32 := Scalar.subi c1_i32_3104 v9
  let arg1 : BitVec 32 := BitVec.ofNat 32 (i 1).val
  let c2_i32_3100 : BitVec 32 := 2#32
  let v5077 : BitVec 32 := Scalar.muli arg1 c2_i32_3100
  let c1_i32_3101 : BitVec 32 := 1#32
  let v5078 : BitVec 32 := Scalar.addi v5077 c1_i32_3101
  let c256_i32_3102 : BitVec 32 := 256#32
  let v5079 : BitVec 32 := Scalar.muli v5078 c256_i32_3102
  let c73_i32_3103 : BitVec 32 := 73#32
  let v5080 : BitVec 32 := Scalar.addi v5079 c73_i32_3103
  let c8_i32_3107 : BitVec 32 := 8#32
  let v5085 : BitVec 32 := Scalar.muli v5080 c8_i32_3107
  let v5086 : BitVec 32 := v5085
  let c0_i32_3108 : BitVec 32 := 0#32
  ![v5081.toNat, v5086.toNat, 0]
def k0_off1341 (v5083 : BitVec 32) : Fin 2 → Nat :=
  let v5084 : BitVec 32 := v5083
  let c0_i32_3109 : BitVec 32 := 0#32
  ![v5084.toNat, 0]

def k0_chk331 (i : grid0.Coords) (v5083 : BitVec 32) : Prop :=
  (∀ (k0_h2 : k0_cond2 i = 1#1), 8 ∣ (k0_mult661 v5083).toNat) ∧
  (∀ (k0_h2 : k0_cond2 i = 1#1), ∀ a, (k0_off1341 v5083) a + S8x128.size a ≤ S131072x128.size a)
theorem k0_mult661_dvd : ∀ (i : grid0.Coords) (v5083 : BitVec 32) (k0_hw331 : k0_chk331 i v5083), ∀ (k0_h2 : k0_cond2 i = 1#1), 8 ∣ (k0_mult661 v5083).toNat := fun i v5083 k0_hw331 k0_h2 => k0_hw331.1 k0_h2
theorem k0_off1341_inb : ∀ (i : grid0.Coords) (v5083 : BitVec 32) (k0_hw331 : k0_chk331 i v5083), ∀ (k0_h2 : k0_cond2 i = 1#1), ∀ a, (k0_off1341 v5083) a + S8x128.size a ≤ S131072x128.size a := fun i v5083 k0_hw331 k0_h2 => k0_hw331.2 k0_h2

def k0_off1342 (i : grid0.Coords) : Fin 3 → Nat :=
  let c0_3115 : Index := 0#32
  let c0_3116 : Index := 0#32
  let arg1 : BitVec 32 := BitVec.ofNat 32 (i 1).val
  let c2_i32_3110 : BitVec 32 := 2#32
  let v5092 : BitVec 32 := Scalar.muli arg1 c2_i32_3110
  let c1_i32_3111 : BitVec 32 := 1#32
  let v5093 : BitVec 32 := Scalar.addi v5092 c1_i32_3111
  let c256_i32_3112 : BitVec 32 := 256#32
  let v5094 : BitVec 32 := Scalar.muli v5093 c256_i32_3112
  let c74_i32_3113 : BitVec 32 := 74#32
  let v5095 : BitVec 32 := Scalar.addi v5094 c74_i32_3113
  let v5097 : Index := Scalar.indexCast v5095
  ![0, 0, v5097.toNat]
def k0_mult663 (v5098 : BitVec 32) : BitVec 32 :=
  v5098

def k0_mult664 (i : grid0.Coords) : BitVec 32 :=
  let arg1 : BitVec 32 := BitVec.ofNat 32 (i 1).val
  let c2_i32_3110 : BitVec 32 := 2#32
  let v5092 : BitVec 32 := Scalar.muli arg1 c2_i32_3110
  let c1_i32_3111 : BitVec 32 := 1#32
  let v5093 : BitVec 32 := Scalar.addi v5092 c1_i32_3111
  let c256_i32_3112 : BitVec 32 := 256#32
  let v5094 : BitVec 32 := Scalar.muli v5093 c256_i32_3112
  let c74_i32_3113 : BitVec 32 := 74#32
  let v5095 : BitVec 32 := Scalar.addi v5094 c74_i32_3113
  let c8_i32_3117 : BitVec 32 := 8#32
  let v5100 : BitVec 32 := Scalar.muli v5095 c8_i32_3117
  v5100
def k0_off1343 (i : grid0.Coords) : Fin 1 → Nat :=
  let c1_i32_3114 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5096 : BitVec 32 := Scalar.subi c1_i32_3114 v9
  ![v5096.toNat]
def k0_off1344 (i : grid0.Coords) : Fin 3 → Nat :=
  let c1_i32_3114 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5096 : BitVec 32 := Scalar.subi c1_i32_3114 v9
  let arg1 : BitVec 32 := BitVec.ofNat 32 (i 1).val
  let c2_i32_3110 : BitVec 32 := 2#32
  let v5092 : BitVec 32 := Scalar.muli arg1 c2_i32_3110
  let c1_i32_3111 : BitVec 32 := 1#32
  let v5093 : BitVec 32 := Scalar.addi v5092 c1_i32_3111
  let c256_i32_3112 : BitVec 32 := 256#32
  let v5094 : BitVec 32 := Scalar.muli v5093 c256_i32_3112
  let c74_i32_3113 : BitVec 32 := 74#32
  let v5095 : BitVec 32 := Scalar.addi v5094 c74_i32_3113
  let c8_i32_3117 : BitVec 32 := 8#32
  let v5100 : BitVec 32 := Scalar.muli v5095 c8_i32_3117
  let v5101 : BitVec 32 := v5100
  let c0_i32_3118 : BitVec 32 := 0#32
  ![v5096.toNat, v5101.toNat, 0]
def k0_off1345 (v5098 : BitVec 32) : Fin 2 → Nat :=
  let v5099 : BitVec 32 := v5098
  let c0_i32_3119 : BitVec 32 := 0#32
  ![v5099.toNat, 0]

def k0_chk332 (i : grid0.Coords) (v5098 : BitVec 32) : Prop :=
  (∀ (k0_h2 : k0_cond2 i = 1#1), 8 ∣ (k0_mult663 v5098).toNat) ∧
  (∀ (k0_h2 : k0_cond2 i = 1#1), ∀ a, (k0_off1345 v5098) a + S8x128.size a ≤ S131072x128.size a)
theorem k0_mult663_dvd : ∀ (i : grid0.Coords) (v5098 : BitVec 32) (k0_hw332 : k0_chk332 i v5098), ∀ (k0_h2 : k0_cond2 i = 1#1), 8 ∣ (k0_mult663 v5098).toNat := fun i v5098 k0_hw332 k0_h2 => k0_hw332.1 k0_h2
theorem k0_off1345_inb : ∀ (i : grid0.Coords) (v5098 : BitVec 32) (k0_hw332 : k0_chk332 i v5098), ∀ (k0_h2 : k0_cond2 i = 1#1), ∀ a, (k0_off1345 v5098) a + S8x128.size a ≤ S131072x128.size a := fun i v5098 k0_hw332 k0_h2 => k0_hw332.2 k0_h2

def k0_off1346 (i : grid0.Coords) : Fin 3 → Nat :=
  let c0_3125 : Index := 0#32
  let c0_3126 : Index := 0#32
  let arg1 : BitVec 32 := BitVec.ofNat 32 (i 1).val
  let c2_i32_3120 : BitVec 32 := 2#32
  let v5107 : BitVec 32 := Scalar.muli arg1 c2_i32_3120
  let c1_i32_3121 : BitVec 32 := 1#32
  let v5108 : BitVec 32 := Scalar.addi v5107 c1_i32_3121
  let c256_i32_3122 : BitVec 32 := 256#32
  let v5109 : BitVec 32 := Scalar.muli v5108 c256_i32_3122
  let c75_i32_3123 : BitVec 32 := 75#32
  let v5110 : BitVec 32 := Scalar.addi v5109 c75_i32_3123
  let v5112 : Index := Scalar.indexCast v5110
  ![0, 0, v5112.toNat]
def k0_mult665 (v5113 : BitVec 32) : BitVec 32 :=
  v5113

def k0_mult666 (i : grid0.Coords) : BitVec 32 :=
  let arg1 : BitVec 32 := BitVec.ofNat 32 (i 1).val
  let c2_i32_3120 : BitVec 32 := 2#32
  let v5107 : BitVec 32 := Scalar.muli arg1 c2_i32_3120
  let c1_i32_3121 : BitVec 32 := 1#32
  let v5108 : BitVec 32 := Scalar.addi v5107 c1_i32_3121
  let c256_i32_3122 : BitVec 32 := 256#32
  let v5109 : BitVec 32 := Scalar.muli v5108 c256_i32_3122
  let c75_i32_3123 : BitVec 32 := 75#32
  let v5110 : BitVec 32 := Scalar.addi v5109 c75_i32_3123
  let c8_i32_3127 : BitVec 32 := 8#32
  let v5115 : BitVec 32 := Scalar.muli v5110 c8_i32_3127
  v5115
def k0_off1347 (i : grid0.Coords) : Fin 1 → Nat :=
  let c1_i32_3124 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5111 : BitVec 32 := Scalar.subi c1_i32_3124 v9
  ![v5111.toNat]
def k0_off1348 (i : grid0.Coords) : Fin 3 → Nat :=
  let c1_i32_3124 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5111 : BitVec 32 := Scalar.subi c1_i32_3124 v9
  let arg1 : BitVec 32 := BitVec.ofNat 32 (i 1).val
  let c2_i32_3120 : BitVec 32 := 2#32
  let v5107 : BitVec 32 := Scalar.muli arg1 c2_i32_3120
  let c1_i32_3121 : BitVec 32 := 1#32
  let v5108 : BitVec 32 := Scalar.addi v5107 c1_i32_3121
  let c256_i32_3122 : BitVec 32 := 256#32
  let v5109 : BitVec 32 := Scalar.muli v5108 c256_i32_3122
  let c75_i32_3123 : BitVec 32 := 75#32
  let v5110 : BitVec 32 := Scalar.addi v5109 c75_i32_3123
  let c8_i32_3127 : BitVec 32 := 8#32
  let v5115 : BitVec 32 := Scalar.muli v5110 c8_i32_3127
  let v5116 : BitVec 32 := v5115
  let c0_i32_3128 : BitVec 32 := 0#32
  ![v5111.toNat, v5116.toNat, 0]
def k0_off1349 (v5113 : BitVec 32) : Fin 2 → Nat :=
  let v5114 : BitVec 32 := v5113
  let c0_i32_3129 : BitVec 32 := 0#32
  ![v5114.toNat, 0]

def k0_chk333 (i : grid0.Coords) (v5113 : BitVec 32) : Prop :=
  (∀ (k0_h2 : k0_cond2 i = 1#1), 8 ∣ (k0_mult665 v5113).toNat) ∧
  (∀ (k0_h2 : k0_cond2 i = 1#1), ∀ a, (k0_off1349 v5113) a + S8x128.size a ≤ S131072x128.size a)
theorem k0_mult665_dvd : ∀ (i : grid0.Coords) (v5113 : BitVec 32) (k0_hw333 : k0_chk333 i v5113), ∀ (k0_h2 : k0_cond2 i = 1#1), 8 ∣ (k0_mult665 v5113).toNat := fun i v5113 k0_hw333 k0_h2 => k0_hw333.1 k0_h2
theorem k0_off1349_inb : ∀ (i : grid0.Coords) (v5113 : BitVec 32) (k0_hw333 : k0_chk333 i v5113), ∀ (k0_h2 : k0_cond2 i = 1#1), ∀ a, (k0_off1349 v5113) a + S8x128.size a ≤ S131072x128.size a := fun i v5113 k0_hw333 k0_h2 => k0_hw333.2 k0_h2

def k0_off1350 (i : grid0.Coords) : Fin 3 → Nat :=
  let c0_3135 : Index := 0#32
  let c0_3136 : Index := 0#32
  let arg1 : BitVec 32 := BitVec.ofNat 32 (i 1).val
  let c2_i32_3130 : BitVec 32 := 2#32
  let v5122 : BitVec 32 := Scalar.muli arg1 c2_i32_3130
  let c1_i32_3131 : BitVec 32 := 1#32
  let v5123 : BitVec 32 := Scalar.addi v5122 c1_i32_3131
  let c256_i32_3132 : BitVec 32 := 256#32
  let v5124 : BitVec 32 := Scalar.muli v5123 c256_i32_3132
  let c76_i32_3133 : BitVec 32 := 76#32
  let v5125 : BitVec 32 := Scalar.addi v5124 c76_i32_3133
  let v5127 : Index := Scalar.indexCast v5125
  ![0, 0, v5127.toNat]
def k0_mult667 (v5128 : BitVec 32) : BitVec 32 :=
  v5128

def k0_mult668 (i : grid0.Coords) : BitVec 32 :=
  let arg1 : BitVec 32 := BitVec.ofNat 32 (i 1).val
  let c2_i32_3130 : BitVec 32 := 2#32
  let v5122 : BitVec 32 := Scalar.muli arg1 c2_i32_3130
  let c1_i32_3131 : BitVec 32 := 1#32
  let v5123 : BitVec 32 := Scalar.addi v5122 c1_i32_3131
  let c256_i32_3132 : BitVec 32 := 256#32
  let v5124 : BitVec 32 := Scalar.muli v5123 c256_i32_3132
  let c76_i32_3133 : BitVec 32 := 76#32
  let v5125 : BitVec 32 := Scalar.addi v5124 c76_i32_3133
  let c8_i32_3137 : BitVec 32 := 8#32
  let v5130 : BitVec 32 := Scalar.muli v5125 c8_i32_3137
  v5130
def k0_off1351 (i : grid0.Coords) : Fin 1 → Nat :=
  let c1_i32_3134 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5126 : BitVec 32 := Scalar.subi c1_i32_3134 v9
  ![v5126.toNat]
def k0_off1352 (i : grid0.Coords) : Fin 3 → Nat :=
  let c1_i32_3134 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5126 : BitVec 32 := Scalar.subi c1_i32_3134 v9
  let arg1 : BitVec 32 := BitVec.ofNat 32 (i 1).val
  let c2_i32_3130 : BitVec 32 := 2#32
  let v5122 : BitVec 32 := Scalar.muli arg1 c2_i32_3130
  let c1_i32_3131 : BitVec 32 := 1#32
  let v5123 : BitVec 32 := Scalar.addi v5122 c1_i32_3131
  let c256_i32_3132 : BitVec 32 := 256#32
  let v5124 : BitVec 32 := Scalar.muli v5123 c256_i32_3132
  let c76_i32_3133 : BitVec 32 := 76#32
  let v5125 : BitVec 32 := Scalar.addi v5124 c76_i32_3133
  let c8_i32_3137 : BitVec 32 := 8#32
  let v5130 : BitVec 32 := Scalar.muli v5125 c8_i32_3137
  let v5131 : BitVec 32 := v5130
  let c0_i32_3138 : BitVec 32 := 0#32
  ![v5126.toNat, v5131.toNat, 0]
def k0_off1353 (v5128 : BitVec 32) : Fin 2 → Nat :=
  let v5129 : BitVec 32 := v5128
  let c0_i32_3139 : BitVec 32 := 0#32
  ![v5129.toNat, 0]

def k0_chk334 (i : grid0.Coords) (v5128 : BitVec 32) : Prop :=
  (∀ (k0_h2 : k0_cond2 i = 1#1), 8 ∣ (k0_mult667 v5128).toNat) ∧
  (∀ (k0_h2 : k0_cond2 i = 1#1), ∀ a, (k0_off1353 v5128) a + S8x128.size a ≤ S131072x128.size a)
theorem k0_mult667_dvd : ∀ (i : grid0.Coords) (v5128 : BitVec 32) (k0_hw334 : k0_chk334 i v5128), ∀ (k0_h2 : k0_cond2 i = 1#1), 8 ∣ (k0_mult667 v5128).toNat := fun i v5128 k0_hw334 k0_h2 => k0_hw334.1 k0_h2
theorem k0_off1353_inb : ∀ (i : grid0.Coords) (v5128 : BitVec 32) (k0_hw334 : k0_chk334 i v5128), ∀ (k0_h2 : k0_cond2 i = 1#1), ∀ a, (k0_off1353 v5128) a + S8x128.size a ≤ S131072x128.size a := fun i v5128 k0_hw334 k0_h2 => k0_hw334.2 k0_h2

def k0_off1354 (i : grid0.Coords) : Fin 3 → Nat :=
  let c0_3145 : Index := 0#32
  let c0_3146 : Index := 0#32
  let arg1 : BitVec 32 := BitVec.ofNat 32 (i 1).val
  let c2_i32_3140 : BitVec 32 := 2#32
  let v5137 : BitVec 32 := Scalar.muli arg1 c2_i32_3140
  let c1_i32_3141 : BitVec 32 := 1#32
  let v5138 : BitVec 32 := Scalar.addi v5137 c1_i32_3141
  let c256_i32_3142 : BitVec 32 := 256#32
  let v5139 : BitVec 32 := Scalar.muli v5138 c256_i32_3142
  let c77_i32_3143 : BitVec 32 := 77#32
  let v5140 : BitVec 32 := Scalar.addi v5139 c77_i32_3143
  let v5142 : Index := Scalar.indexCast v5140
  ![0, 0, v5142.toNat]
def k0_mult669 (v5143 : BitVec 32) : BitVec 32 :=
  v5143

def k0_mult670 (i : grid0.Coords) : BitVec 32 :=
  let arg1 : BitVec 32 := BitVec.ofNat 32 (i 1).val
  let c2_i32_3140 : BitVec 32 := 2#32
  let v5137 : BitVec 32 := Scalar.muli arg1 c2_i32_3140
  let c1_i32_3141 : BitVec 32 := 1#32
  let v5138 : BitVec 32 := Scalar.addi v5137 c1_i32_3141
  let c256_i32_3142 : BitVec 32 := 256#32
  let v5139 : BitVec 32 := Scalar.muli v5138 c256_i32_3142
  let c77_i32_3143 : BitVec 32 := 77#32
  let v5140 : BitVec 32 := Scalar.addi v5139 c77_i32_3143
  let c8_i32_3147 : BitVec 32 := 8#32
  let v5145 : BitVec 32 := Scalar.muli v5140 c8_i32_3147
  v5145
def k0_off1355 (i : grid0.Coords) : Fin 1 → Nat :=
  let c1_i32_3144 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5141 : BitVec 32 := Scalar.subi c1_i32_3144 v9
  ![v5141.toNat]
def k0_off1356 (i : grid0.Coords) : Fin 3 → Nat :=
  let c1_i32_3144 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5141 : BitVec 32 := Scalar.subi c1_i32_3144 v9
  let arg1 : BitVec 32 := BitVec.ofNat 32 (i 1).val
  let c2_i32_3140 : BitVec 32 := 2#32
  let v5137 : BitVec 32 := Scalar.muli arg1 c2_i32_3140
  let c1_i32_3141 : BitVec 32 := 1#32
  let v5138 : BitVec 32 := Scalar.addi v5137 c1_i32_3141
  let c256_i32_3142 : BitVec 32 := 256#32
  let v5139 : BitVec 32 := Scalar.muli v5138 c256_i32_3142
  let c77_i32_3143 : BitVec 32 := 77#32
  let v5140 : BitVec 32 := Scalar.addi v5139 c77_i32_3143
  let c8_i32_3147 : BitVec 32 := 8#32
  let v5145 : BitVec 32 := Scalar.muli v5140 c8_i32_3147
  let v5146 : BitVec 32 := v5145
  let c0_i32_3148 : BitVec 32 := 0#32
  ![v5141.toNat, v5146.toNat, 0]
def k0_off1357 (v5143 : BitVec 32) : Fin 2 → Nat :=
  let v5144 : BitVec 32 := v5143
  let c0_i32_3149 : BitVec 32 := 0#32
  ![v5144.toNat, 0]

def k0_chk335 (i : grid0.Coords) (v5143 : BitVec 32) : Prop :=
  (∀ (k0_h2 : k0_cond2 i = 1#1), 8 ∣ (k0_mult669 v5143).toNat) ∧
  (∀ (k0_h2 : k0_cond2 i = 1#1), ∀ a, (k0_off1357 v5143) a + S8x128.size a ≤ S131072x128.size a)
theorem k0_mult669_dvd : ∀ (i : grid0.Coords) (v5143 : BitVec 32) (k0_hw335 : k0_chk335 i v5143), ∀ (k0_h2 : k0_cond2 i = 1#1), 8 ∣ (k0_mult669 v5143).toNat := fun i v5143 k0_hw335 k0_h2 => k0_hw335.1 k0_h2
theorem k0_off1357_inb : ∀ (i : grid0.Coords) (v5143 : BitVec 32) (k0_hw335 : k0_chk335 i v5143), ∀ (k0_h2 : k0_cond2 i = 1#1), ∀ a, (k0_off1357 v5143) a + S8x128.size a ≤ S131072x128.size a := fun i v5143 k0_hw335 k0_h2 => k0_hw335.2 k0_h2

def k0_off1358 (i : grid0.Coords) : Fin 3 → Nat :=
  let c0_3155 : Index := 0#32
  let c0_3156 : Index := 0#32
  let arg1 : BitVec 32 := BitVec.ofNat 32 (i 1).val
  let c2_i32_3150 : BitVec 32 := 2#32
  let v5152 : BitVec 32 := Scalar.muli arg1 c2_i32_3150
  let c1_i32_3151 : BitVec 32 := 1#32
  let v5153 : BitVec 32 := Scalar.addi v5152 c1_i32_3151
  let c256_i32_3152 : BitVec 32 := 256#32
  let v5154 : BitVec 32 := Scalar.muli v5153 c256_i32_3152
  let c78_i32_3153 : BitVec 32 := 78#32
  let v5155 : BitVec 32 := Scalar.addi v5154 c78_i32_3153
  let v5157 : Index := Scalar.indexCast v5155
  ![0, 0, v5157.toNat]
def k0_mult671 (v5158 : BitVec 32) : BitVec 32 :=
  v5158

def k0_mult672 (i : grid0.Coords) : BitVec 32 :=
  let arg1 : BitVec 32 := BitVec.ofNat 32 (i 1).val
  let c2_i32_3150 : BitVec 32 := 2#32
  let v5152 : BitVec 32 := Scalar.muli arg1 c2_i32_3150
  let c1_i32_3151 : BitVec 32 := 1#32
  let v5153 : BitVec 32 := Scalar.addi v5152 c1_i32_3151
  let c256_i32_3152 : BitVec 32 := 256#32
  let v5154 : BitVec 32 := Scalar.muli v5153 c256_i32_3152
  let c78_i32_3153 : BitVec 32 := 78#32
  let v5155 : BitVec 32 := Scalar.addi v5154 c78_i32_3153
  let c8_i32_3157 : BitVec 32 := 8#32
  let v5160 : BitVec 32 := Scalar.muli v5155 c8_i32_3157
  v5160
def k0_off1359 (i : grid0.Coords) : Fin 1 → Nat :=
  let c1_i32_3154 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5156 : BitVec 32 := Scalar.subi c1_i32_3154 v9
  ![v5156.toNat]
def k0_off1360 (i : grid0.Coords) : Fin 3 → Nat :=
  let c1_i32_3154 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5156 : BitVec 32 := Scalar.subi c1_i32_3154 v9
  let arg1 : BitVec 32 := BitVec.ofNat 32 (i 1).val
  let c2_i32_3150 : BitVec 32 := 2#32
  let v5152 : BitVec 32 := Scalar.muli arg1 c2_i32_3150
  let c1_i32_3151 : BitVec 32 := 1#32
  let v5153 : BitVec 32 := Scalar.addi v5152 c1_i32_3151
  let c256_i32_3152 : BitVec 32 := 256#32
  let v5154 : BitVec 32 := Scalar.muli v5153 c256_i32_3152
  let c78_i32_3153 : BitVec 32 := 78#32
  let v5155 : BitVec 32 := Scalar.addi v5154 c78_i32_3153
  let c8_i32_3157 : BitVec 32 := 8#32
  let v5160 : BitVec 32 := Scalar.muli v5155 c8_i32_3157
  let v5161 : BitVec 32 := v5160
  let c0_i32_3158 : BitVec 32 := 0#32
  ![v5156.toNat, v5161.toNat, 0]
def k0_off1361 (v5158 : BitVec 32) : Fin 2 → Nat :=
  let v5159 : BitVec 32 := v5158
  let c0_i32_3159 : BitVec 32 := 0#32
  ![v5159.toNat, 0]

def k0_chk336 (i : grid0.Coords) (v5158 : BitVec 32) : Prop :=
  (∀ (k0_h2 : k0_cond2 i = 1#1), 8 ∣ (k0_mult671 v5158).toNat) ∧
  (∀ (k0_h2 : k0_cond2 i = 1#1), ∀ a, (k0_off1361 v5158) a + S8x128.size a ≤ S131072x128.size a)
theorem k0_mult671_dvd : ∀ (i : grid0.Coords) (v5158 : BitVec 32) (k0_hw336 : k0_chk336 i v5158), ∀ (k0_h2 : k0_cond2 i = 1#1), 8 ∣ (k0_mult671 v5158).toNat := fun i v5158 k0_hw336 k0_h2 => k0_hw336.1 k0_h2
theorem k0_off1361_inb : ∀ (i : grid0.Coords) (v5158 : BitVec 32) (k0_hw336 : k0_chk336 i v5158), ∀ (k0_h2 : k0_cond2 i = 1#1), ∀ a, (k0_off1361 v5158) a + S8x128.size a ≤ S131072x128.size a := fun i v5158 k0_hw336 k0_h2 => k0_hw336.2 k0_h2

def k0_off1362 (i : grid0.Coords) : Fin 3 → Nat :=
  let c0_3165 : Index := 0#32
  let c0_3166 : Index := 0#32
  let arg1 : BitVec 32 := BitVec.ofNat 32 (i 1).val
  let c2_i32_3160 : BitVec 32 := 2#32
  let v5167 : BitVec 32 := Scalar.muli arg1 c2_i32_3160
  let c1_i32_3161 : BitVec 32 := 1#32
  let v5168 : BitVec 32 := Scalar.addi v5167 c1_i32_3161
  let c256_i32_3162 : BitVec 32 := 256#32
  let v5169 : BitVec 32 := Scalar.muli v5168 c256_i32_3162
  let c79_i32_3163 : BitVec 32 := 79#32
  let v5170 : BitVec 32 := Scalar.addi v5169 c79_i32_3163
  let v5172 : Index := Scalar.indexCast v5170
  ![0, 0, v5172.toNat]
def k0_mult673 (v5173 : BitVec 32) : BitVec 32 :=
  v5173

def k0_mult674 (i : grid0.Coords) : BitVec 32 :=
  let arg1 : BitVec 32 := BitVec.ofNat 32 (i 1).val
  let c2_i32_3160 : BitVec 32 := 2#32
  let v5167 : BitVec 32 := Scalar.muli arg1 c2_i32_3160
  let c1_i32_3161 : BitVec 32 := 1#32
  let v5168 : BitVec 32 := Scalar.addi v5167 c1_i32_3161
  let c256_i32_3162 : BitVec 32 := 256#32
  let v5169 : BitVec 32 := Scalar.muli v5168 c256_i32_3162
  let c79_i32_3163 : BitVec 32 := 79#32
  let v5170 : BitVec 32 := Scalar.addi v5169 c79_i32_3163
  let c8_i32_3167 : BitVec 32 := 8#32
  let v5175 : BitVec 32 := Scalar.muli v5170 c8_i32_3167
  v5175
def k0_off1363 (i : grid0.Coords) : Fin 1 → Nat :=
  let c1_i32_3164 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5171 : BitVec 32 := Scalar.subi c1_i32_3164 v9
  ![v5171.toNat]
def k0_off1364 (i : grid0.Coords) : Fin 3 → Nat :=
  let c1_i32_3164 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5171 : BitVec 32 := Scalar.subi c1_i32_3164 v9
  let arg1 : BitVec 32 := BitVec.ofNat 32 (i 1).val
  let c2_i32_3160 : BitVec 32 := 2#32
  let v5167 : BitVec 32 := Scalar.muli arg1 c2_i32_3160
  let c1_i32_3161 : BitVec 32 := 1#32
  let v5168 : BitVec 32 := Scalar.addi v5167 c1_i32_3161
  let c256_i32_3162 : BitVec 32 := 256#32
  let v5169 : BitVec 32 := Scalar.muli v5168 c256_i32_3162
  let c79_i32_3163 : BitVec 32 := 79#32
  let v5170 : BitVec 32 := Scalar.addi v5169 c79_i32_3163
  let c8_i32_3167 : BitVec 32 := 8#32
  let v5175 : BitVec 32 := Scalar.muli v5170 c8_i32_3167
  let v5176 : BitVec 32 := v5175
  let c0_i32_3168 : BitVec 32 := 0#32
  ![v5171.toNat, v5176.toNat, 0]
def k0_off1365 (v5173 : BitVec 32) : Fin 2 → Nat :=
  let v5174 : BitVec 32 := v5173
  let c0_i32_3169 : BitVec 32 := 0#32
  ![v5174.toNat, 0]

def k0_chk337 (i : grid0.Coords) (v5173 : BitVec 32) : Prop :=
  (∀ (k0_h2 : k0_cond2 i = 1#1), 8 ∣ (k0_mult673 v5173).toNat) ∧
  (∀ (k0_h2 : k0_cond2 i = 1#1), ∀ a, (k0_off1365 v5173) a + S8x128.size a ≤ S131072x128.size a)
theorem k0_mult673_dvd : ∀ (i : grid0.Coords) (v5173 : BitVec 32) (k0_hw337 : k0_chk337 i v5173), ∀ (k0_h2 : k0_cond2 i = 1#1), 8 ∣ (k0_mult673 v5173).toNat := fun i v5173 k0_hw337 k0_h2 => k0_hw337.1 k0_h2
theorem k0_off1365_inb : ∀ (i : grid0.Coords) (v5173 : BitVec 32) (k0_hw337 : k0_chk337 i v5173), ∀ (k0_h2 : k0_cond2 i = 1#1), ∀ a, (k0_off1365 v5173) a + S8x128.size a ≤ S131072x128.size a := fun i v5173 k0_hw337 k0_h2 => k0_hw337.2 k0_h2

def k0_off1366 (i : grid0.Coords) : Fin 3 → Nat :=
  let c0_3175 : Index := 0#32
  let c0_3176 : Index := 0#32
  let arg1 : BitVec 32 := BitVec.ofNat 32 (i 1).val
  let c2_i32_3170 : BitVec 32 := 2#32
  let v5182 : BitVec 32 := Scalar.muli arg1 c2_i32_3170
  let c1_i32_3171 : BitVec 32 := 1#32
  let v5183 : BitVec 32 := Scalar.addi v5182 c1_i32_3171
  let c256_i32_3172 : BitVec 32 := 256#32
  let v5184 : BitVec 32 := Scalar.muli v5183 c256_i32_3172
  let c80_i32_3173 : BitVec 32 := 80#32
  let v5185 : BitVec 32 := Scalar.addi v5184 c80_i32_3173
  let v5187 : Index := Scalar.indexCast v5185
  ![0, 0, v5187.toNat]
def k0_mult675 (v5188 : BitVec 32) : BitVec 32 :=
  v5188

def k0_mult676 (i : grid0.Coords) : BitVec 32 :=
  let arg1 : BitVec 32 := BitVec.ofNat 32 (i 1).val
  let c2_i32_3170 : BitVec 32 := 2#32
  let v5182 : BitVec 32 := Scalar.muli arg1 c2_i32_3170
  let c1_i32_3171 : BitVec 32 := 1#32
  let v5183 : BitVec 32 := Scalar.addi v5182 c1_i32_3171
  let c256_i32_3172 : BitVec 32 := 256#32
  let v5184 : BitVec 32 := Scalar.muli v5183 c256_i32_3172
  let c80_i32_3173 : BitVec 32 := 80#32
  let v5185 : BitVec 32 := Scalar.addi v5184 c80_i32_3173
  let c8_i32_3177 : BitVec 32 := 8#32
  let v5190 : BitVec 32 := Scalar.muli v5185 c8_i32_3177
  v5190
def k0_off1367 (i : grid0.Coords) : Fin 1 → Nat :=
  let c1_i32_3174 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5186 : BitVec 32 := Scalar.subi c1_i32_3174 v9
  ![v5186.toNat]
def k0_off1368 (i : grid0.Coords) : Fin 3 → Nat :=
  let c1_i32_3174 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5186 : BitVec 32 := Scalar.subi c1_i32_3174 v9
  let arg1 : BitVec 32 := BitVec.ofNat 32 (i 1).val
  let c2_i32_3170 : BitVec 32 := 2#32
  let v5182 : BitVec 32 := Scalar.muli arg1 c2_i32_3170
  let c1_i32_3171 : BitVec 32 := 1#32
  let v5183 : BitVec 32 := Scalar.addi v5182 c1_i32_3171
  let c256_i32_3172 : BitVec 32 := 256#32
  let v5184 : BitVec 32 := Scalar.muli v5183 c256_i32_3172
  let c80_i32_3173 : BitVec 32 := 80#32
  let v5185 : BitVec 32 := Scalar.addi v5184 c80_i32_3173
  let c8_i32_3177 : BitVec 32 := 8#32
  let v5190 : BitVec 32 := Scalar.muli v5185 c8_i32_3177
  let v5191 : BitVec 32 := v5190
  let c0_i32_3178 : BitVec 32 := 0#32
  ![v5186.toNat, v5191.toNat, 0]
def k0_off1369 (v5188 : BitVec 32) : Fin 2 → Nat :=
  let v5189 : BitVec 32 := v5188
  let c0_i32_3179 : BitVec 32 := 0#32
  ![v5189.toNat, 0]

def k0_chk338 (i : grid0.Coords) (v5188 : BitVec 32) : Prop :=
  (∀ (k0_h2 : k0_cond2 i = 1#1), 8 ∣ (k0_mult675 v5188).toNat) ∧
  (∀ (k0_h2 : k0_cond2 i = 1#1), ∀ a, (k0_off1369 v5188) a + S8x128.size a ≤ S131072x128.size a)
theorem k0_mult675_dvd : ∀ (i : grid0.Coords) (v5188 : BitVec 32) (k0_hw338 : k0_chk338 i v5188), ∀ (k0_h2 : k0_cond2 i = 1#1), 8 ∣ (k0_mult675 v5188).toNat := fun i v5188 k0_hw338 k0_h2 => k0_hw338.1 k0_h2
theorem k0_off1369_inb : ∀ (i : grid0.Coords) (v5188 : BitVec 32) (k0_hw338 : k0_chk338 i v5188), ∀ (k0_h2 : k0_cond2 i = 1#1), ∀ a, (k0_off1369 v5188) a + S8x128.size a ≤ S131072x128.size a := fun i v5188 k0_hw338 k0_h2 => k0_hw338.2 k0_h2

def k0_off1370 (i : grid0.Coords) : Fin 3 → Nat :=
  let c0_3185 : Index := 0#32
  let c0_3186 : Index := 0#32
  let arg1 : BitVec 32 := BitVec.ofNat 32 (i 1).val
  let c2_i32_3180 : BitVec 32 := 2#32
  let v5197 : BitVec 32 := Scalar.muli arg1 c2_i32_3180
  let c1_i32_3181 : BitVec 32 := 1#32
  let v5198 : BitVec 32 := Scalar.addi v5197 c1_i32_3181
  let c256_i32_3182 : BitVec 32 := 256#32
  let v5199 : BitVec 32 := Scalar.muli v5198 c256_i32_3182
  let c81_i32_3183 : BitVec 32 := 81#32
  let v5200 : BitVec 32 := Scalar.addi v5199 c81_i32_3183
  let v5202 : Index := Scalar.indexCast v5200
  ![0, 0, v5202.toNat]
def k0_mult677 (v5203 : BitVec 32) : BitVec 32 :=
  v5203

def k0_mult678 (i : grid0.Coords) : BitVec 32 :=
  let arg1 : BitVec 32 := BitVec.ofNat 32 (i 1).val
  let c2_i32_3180 : BitVec 32 := 2#32
  let v5197 : BitVec 32 := Scalar.muli arg1 c2_i32_3180
  let c1_i32_3181 : BitVec 32 := 1#32
  let v5198 : BitVec 32 := Scalar.addi v5197 c1_i32_3181
  let c256_i32_3182 : BitVec 32 := 256#32
  let v5199 : BitVec 32 := Scalar.muli v5198 c256_i32_3182
  let c81_i32_3183 : BitVec 32 := 81#32
  let v5200 : BitVec 32 := Scalar.addi v5199 c81_i32_3183
  let c8_i32_3187 : BitVec 32 := 8#32
  let v5205 : BitVec 32 := Scalar.muli v5200 c8_i32_3187
  v5205
def k0_off1371 (i : grid0.Coords) : Fin 1 → Nat :=
  let c1_i32_3184 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5201 : BitVec 32 := Scalar.subi c1_i32_3184 v9
  ![v5201.toNat]
def k0_off1372 (i : grid0.Coords) : Fin 3 → Nat :=
  let c1_i32_3184 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5201 : BitVec 32 := Scalar.subi c1_i32_3184 v9
  let arg1 : BitVec 32 := BitVec.ofNat 32 (i 1).val
  let c2_i32_3180 : BitVec 32 := 2#32
  let v5197 : BitVec 32 := Scalar.muli arg1 c2_i32_3180
  let c1_i32_3181 : BitVec 32 := 1#32
  let v5198 : BitVec 32 := Scalar.addi v5197 c1_i32_3181
  let c256_i32_3182 : BitVec 32 := 256#32
  let v5199 : BitVec 32 := Scalar.muli v5198 c256_i32_3182
  let c81_i32_3183 : BitVec 32 := 81#32
  let v5200 : BitVec 32 := Scalar.addi v5199 c81_i32_3183
  let c8_i32_3187 : BitVec 32 := 8#32
  let v5205 : BitVec 32 := Scalar.muli v5200 c8_i32_3187
  let v5206 : BitVec 32 := v5205
  let c0_i32_3188 : BitVec 32 := 0#32
  ![v5201.toNat, v5206.toNat, 0]
def k0_off1373 (v5203 : BitVec 32) : Fin 2 → Nat :=
  let v5204 : BitVec 32 := v5203
  let c0_i32_3189 : BitVec 32 := 0#32
  ![v5204.toNat, 0]

def k0_chk339 (i : grid0.Coords) (v5203 : BitVec 32) : Prop :=
  (∀ (k0_h2 : k0_cond2 i = 1#1), 8 ∣ (k0_mult677 v5203).toNat) ∧
  (∀ (k0_h2 : k0_cond2 i = 1#1), ∀ a, (k0_off1373 v5203) a + S8x128.size a ≤ S131072x128.size a)
theorem k0_mult677_dvd : ∀ (i : grid0.Coords) (v5203 : BitVec 32) (k0_hw339 : k0_chk339 i v5203), ∀ (k0_h2 : k0_cond2 i = 1#1), 8 ∣ (k0_mult677 v5203).toNat := fun i v5203 k0_hw339 k0_h2 => k0_hw339.1 k0_h2
theorem k0_off1373_inb : ∀ (i : grid0.Coords) (v5203 : BitVec 32) (k0_hw339 : k0_chk339 i v5203), ∀ (k0_h2 : k0_cond2 i = 1#1), ∀ a, (k0_off1373 v5203) a + S8x128.size a ≤ S131072x128.size a := fun i v5203 k0_hw339 k0_h2 => k0_hw339.2 k0_h2

def k0_off1374 (i : grid0.Coords) : Fin 3 → Nat :=
  let c0_3195 : Index := 0#32
  let c0_3196 : Index := 0#32
  let arg1 : BitVec 32 := BitVec.ofNat 32 (i 1).val
  let c2_i32_3190 : BitVec 32 := 2#32
  let v5212 : BitVec 32 := Scalar.muli arg1 c2_i32_3190
  let c1_i32_3191 : BitVec 32 := 1#32
  let v5213 : BitVec 32 := Scalar.addi v5212 c1_i32_3191
  let c256_i32_3192 : BitVec 32 := 256#32
  let v5214 : BitVec 32 := Scalar.muli v5213 c256_i32_3192
  let c82_i32_3193 : BitVec 32 := 82#32
  let v5215 : BitVec 32 := Scalar.addi v5214 c82_i32_3193
  let v5217 : Index := Scalar.indexCast v5215
  ![0, 0, v5217.toNat]
def k0_mult679 (v5218 : BitVec 32) : BitVec 32 :=
  v5218

def k0_mult680 (i : grid0.Coords) : BitVec 32 :=
  let arg1 : BitVec 32 := BitVec.ofNat 32 (i 1).val
  let c2_i32_3190 : BitVec 32 := 2#32
  let v5212 : BitVec 32 := Scalar.muli arg1 c2_i32_3190
  let c1_i32_3191 : BitVec 32 := 1#32
  let v5213 : BitVec 32 := Scalar.addi v5212 c1_i32_3191
  let c256_i32_3192 : BitVec 32 := 256#32
  let v5214 : BitVec 32 := Scalar.muli v5213 c256_i32_3192
  let c82_i32_3193 : BitVec 32 := 82#32
  let v5215 : BitVec 32 := Scalar.addi v5214 c82_i32_3193
  let c8_i32_3197 : BitVec 32 := 8#32
  let v5220 : BitVec 32 := Scalar.muli v5215 c8_i32_3197
  v5220
def k0_off1375 (i : grid0.Coords) : Fin 1 → Nat :=
  let c1_i32_3194 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5216 : BitVec 32 := Scalar.subi c1_i32_3194 v9
  ![v5216.toNat]
def k0_off1376 (i : grid0.Coords) : Fin 3 → Nat :=
  let c1_i32_3194 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5216 : BitVec 32 := Scalar.subi c1_i32_3194 v9
  let arg1 : BitVec 32 := BitVec.ofNat 32 (i 1).val
  let c2_i32_3190 : BitVec 32 := 2#32
  let v5212 : BitVec 32 := Scalar.muli arg1 c2_i32_3190
  let c1_i32_3191 : BitVec 32 := 1#32
  let v5213 : BitVec 32 := Scalar.addi v5212 c1_i32_3191
  let c256_i32_3192 : BitVec 32 := 256#32
  let v5214 : BitVec 32 := Scalar.muli v5213 c256_i32_3192
  let c82_i32_3193 : BitVec 32 := 82#32
  let v5215 : BitVec 32 := Scalar.addi v5214 c82_i32_3193
  let c8_i32_3197 : BitVec 32 := 8#32
  let v5220 : BitVec 32 := Scalar.muli v5215 c8_i32_3197
  let v5221 : BitVec 32 := v5220
  let c0_i32_3198 : BitVec 32 := 0#32
  ![v5216.toNat, v5221.toNat, 0]
def k0_off1377 (v5218 : BitVec 32) : Fin 2 → Nat :=
  let v5219 : BitVec 32 := v5218
  let c0_i32_3199 : BitVec 32 := 0#32
  ![v5219.toNat, 0]

def k0_chk340 (i : grid0.Coords) (v5218 : BitVec 32) : Prop :=
  (∀ (k0_h2 : k0_cond2 i = 1#1), 8 ∣ (k0_mult679 v5218).toNat) ∧
  (∀ (k0_h2 : k0_cond2 i = 1#1), ∀ a, (k0_off1377 v5218) a + S8x128.size a ≤ S131072x128.size a)
theorem k0_mult679_dvd : ∀ (i : grid0.Coords) (v5218 : BitVec 32) (k0_hw340 : k0_chk340 i v5218), ∀ (k0_h2 : k0_cond2 i = 1#1), 8 ∣ (k0_mult679 v5218).toNat := fun i v5218 k0_hw340 k0_h2 => k0_hw340.1 k0_h2
theorem k0_off1377_inb : ∀ (i : grid0.Coords) (v5218 : BitVec 32) (k0_hw340 : k0_chk340 i v5218), ∀ (k0_h2 : k0_cond2 i = 1#1), ∀ a, (k0_off1377 v5218) a + S8x128.size a ≤ S131072x128.size a := fun i v5218 k0_hw340 k0_h2 => k0_hw340.2 k0_h2

def k0_off1378 (i : grid0.Coords) : Fin 3 → Nat :=
  let c0_3205 : Index := 0#32
  let c0_3206 : Index := 0#32
  let arg1 : BitVec 32 := BitVec.ofNat 32 (i 1).val
  let c2_i32_3200 : BitVec 32 := 2#32
  let v5227 : BitVec 32 := Scalar.muli arg1 c2_i32_3200
  let c1_i32_3201 : BitVec 32 := 1#32
  let v5228 : BitVec 32 := Scalar.addi v5227 c1_i32_3201
  let c256_i32_3202 : BitVec 32 := 256#32
  let v5229 : BitVec 32 := Scalar.muli v5228 c256_i32_3202
  let c83_i32_3203 : BitVec 32 := 83#32
  let v5230 : BitVec 32 := Scalar.addi v5229 c83_i32_3203
  let v5232 : Index := Scalar.indexCast v5230
  ![0, 0, v5232.toNat]
def k0_mult681 (v5233 : BitVec 32) : BitVec 32 :=
  v5233

def k0_mult682 (i : grid0.Coords) : BitVec 32 :=
  let arg1 : BitVec 32 := BitVec.ofNat 32 (i 1).val
  let c2_i32_3200 : BitVec 32 := 2#32
  let v5227 : BitVec 32 := Scalar.muli arg1 c2_i32_3200
  let c1_i32_3201 : BitVec 32 := 1#32
  let v5228 : BitVec 32 := Scalar.addi v5227 c1_i32_3201
  let c256_i32_3202 : BitVec 32 := 256#32
  let v5229 : BitVec 32 := Scalar.muli v5228 c256_i32_3202
  let c83_i32_3203 : BitVec 32 := 83#32
  let v5230 : BitVec 32 := Scalar.addi v5229 c83_i32_3203
  let c8_i32_3207 : BitVec 32 := 8#32
  let v5235 : BitVec 32 := Scalar.muli v5230 c8_i32_3207
  v5235
def k0_off1379 (i : grid0.Coords) : Fin 1 → Nat :=
  let c1_i32_3204 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5231 : BitVec 32 := Scalar.subi c1_i32_3204 v9
  ![v5231.toNat]
def k0_off1380 (i : grid0.Coords) : Fin 3 → Nat :=
  let c1_i32_3204 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5231 : BitVec 32 := Scalar.subi c1_i32_3204 v9
  let arg1 : BitVec 32 := BitVec.ofNat 32 (i 1).val
  let c2_i32_3200 : BitVec 32 := 2#32
  let v5227 : BitVec 32 := Scalar.muli arg1 c2_i32_3200
  let c1_i32_3201 : BitVec 32 := 1#32
  let v5228 : BitVec 32 := Scalar.addi v5227 c1_i32_3201
  let c256_i32_3202 : BitVec 32 := 256#32
  let v5229 : BitVec 32 := Scalar.muli v5228 c256_i32_3202
  let c83_i32_3203 : BitVec 32 := 83#32
  let v5230 : BitVec 32 := Scalar.addi v5229 c83_i32_3203
  let c8_i32_3207 : BitVec 32 := 8#32
  let v5235 : BitVec 32 := Scalar.muli v5230 c8_i32_3207
  let v5236 : BitVec 32 := v5235
  let c0_i32_3208 : BitVec 32 := 0#32
  ![v5231.toNat, v5236.toNat, 0]
def k0_off1381 (v5233 : BitVec 32) : Fin 2 → Nat :=
  let v5234 : BitVec 32 := v5233
  let c0_i32_3209 : BitVec 32 := 0#32
  ![v5234.toNat, 0]

def k0_chk341 (i : grid0.Coords) (v5233 : BitVec 32) : Prop :=
  (∀ (k0_h2 : k0_cond2 i = 1#1), 8 ∣ (k0_mult681 v5233).toNat) ∧
  (∀ (k0_h2 : k0_cond2 i = 1#1), ∀ a, (k0_off1381 v5233) a + S8x128.size a ≤ S131072x128.size a)
theorem k0_mult681_dvd : ∀ (i : grid0.Coords) (v5233 : BitVec 32) (k0_hw341 : k0_chk341 i v5233), ∀ (k0_h2 : k0_cond2 i = 1#1), 8 ∣ (k0_mult681 v5233).toNat := fun i v5233 k0_hw341 k0_h2 => k0_hw341.1 k0_h2
theorem k0_off1381_inb : ∀ (i : grid0.Coords) (v5233 : BitVec 32) (k0_hw341 : k0_chk341 i v5233), ∀ (k0_h2 : k0_cond2 i = 1#1), ∀ a, (k0_off1381 v5233) a + S8x128.size a ≤ S131072x128.size a := fun i v5233 k0_hw341 k0_h2 => k0_hw341.2 k0_h2

def k0_off1382 (i : grid0.Coords) : Fin 3 → Nat :=
  let c0_3215 : Index := 0#32
  let c0_3216 : Index := 0#32
  let arg1 : BitVec 32 := BitVec.ofNat 32 (i 1).val
  let c2_i32_3210 : BitVec 32 := 2#32
  let v5242 : BitVec 32 := Scalar.muli arg1 c2_i32_3210
  let c1_i32_3211 : BitVec 32 := 1#32
  let v5243 : BitVec 32 := Scalar.addi v5242 c1_i32_3211
  let c256_i32_3212 : BitVec 32 := 256#32
  let v5244 : BitVec 32 := Scalar.muli v5243 c256_i32_3212
  let c84_i32_3213 : BitVec 32 := 84#32
  let v5245 : BitVec 32 := Scalar.addi v5244 c84_i32_3213
  let v5247 : Index := Scalar.indexCast v5245
  ![0, 0, v5247.toNat]
def k0_mult683 (v5248 : BitVec 32) : BitVec 32 :=
  v5248

def k0_mult684 (i : grid0.Coords) : BitVec 32 :=
  let arg1 : BitVec 32 := BitVec.ofNat 32 (i 1).val
  let c2_i32_3210 : BitVec 32 := 2#32
  let v5242 : BitVec 32 := Scalar.muli arg1 c2_i32_3210
  let c1_i32_3211 : BitVec 32 := 1#32
  let v5243 : BitVec 32 := Scalar.addi v5242 c1_i32_3211
  let c256_i32_3212 : BitVec 32 := 256#32
  let v5244 : BitVec 32 := Scalar.muli v5243 c256_i32_3212
  let c84_i32_3213 : BitVec 32 := 84#32
  let v5245 : BitVec 32 := Scalar.addi v5244 c84_i32_3213
  let c8_i32_3217 : BitVec 32 := 8#32
  let v5250 : BitVec 32 := Scalar.muli v5245 c8_i32_3217
  v5250
def k0_off1383 (i : grid0.Coords) : Fin 1 → Nat :=
  let c1_i32_3214 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5246 : BitVec 32 := Scalar.subi c1_i32_3214 v9
  ![v5246.toNat]
def k0_off1384 (i : grid0.Coords) : Fin 3 → Nat :=
  let c1_i32_3214 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5246 : BitVec 32 := Scalar.subi c1_i32_3214 v9
  let arg1 : BitVec 32 := BitVec.ofNat 32 (i 1).val
  let c2_i32_3210 : BitVec 32 := 2#32
  let v5242 : BitVec 32 := Scalar.muli arg1 c2_i32_3210
  let c1_i32_3211 : BitVec 32 := 1#32
  let v5243 : BitVec 32 := Scalar.addi v5242 c1_i32_3211
  let c256_i32_3212 : BitVec 32 := 256#32
  let v5244 : BitVec 32 := Scalar.muli v5243 c256_i32_3212
  let c84_i32_3213 : BitVec 32 := 84#32
  let v5245 : BitVec 32 := Scalar.addi v5244 c84_i32_3213
  let c8_i32_3217 : BitVec 32 := 8#32
  let v5250 : BitVec 32 := Scalar.muli v5245 c8_i32_3217
  let v5251 : BitVec 32 := v5250
  let c0_i32_3218 : BitVec 32 := 0#32
  ![v5246.toNat, v5251.toNat, 0]
def k0_off1385 (v5248 : BitVec 32) : Fin 2 → Nat :=
  let v5249 : BitVec 32 := v5248
  let c0_i32_3219 : BitVec 32 := 0#32
  ![v5249.toNat, 0]

def k0_chk342 (i : grid0.Coords) (v5248 : BitVec 32) : Prop :=
  (∀ (k0_h2 : k0_cond2 i = 1#1), 8 ∣ (k0_mult683 v5248).toNat) ∧
  (∀ (k0_h2 : k0_cond2 i = 1#1), ∀ a, (k0_off1385 v5248) a + S8x128.size a ≤ S131072x128.size a)
theorem k0_mult683_dvd : ∀ (i : grid0.Coords) (v5248 : BitVec 32) (k0_hw342 : k0_chk342 i v5248), ∀ (k0_h2 : k0_cond2 i = 1#1), 8 ∣ (k0_mult683 v5248).toNat := fun i v5248 k0_hw342 k0_h2 => k0_hw342.1 k0_h2
theorem k0_off1385_inb : ∀ (i : grid0.Coords) (v5248 : BitVec 32) (k0_hw342 : k0_chk342 i v5248), ∀ (k0_h2 : k0_cond2 i = 1#1), ∀ a, (k0_off1385 v5248) a + S8x128.size a ≤ S131072x128.size a := fun i v5248 k0_hw342 k0_h2 => k0_hw342.2 k0_h2

def k0_off1386 (i : grid0.Coords) : Fin 3 → Nat :=
  let c0_3225 : Index := 0#32
  let c0_3226 : Index := 0#32
  let arg1 : BitVec 32 := BitVec.ofNat 32 (i 1).val
  let c2_i32_3220 : BitVec 32 := 2#32
  let v5257 : BitVec 32 := Scalar.muli arg1 c2_i32_3220
  let c1_i32_3221 : BitVec 32 := 1#32
  let v5258 : BitVec 32 := Scalar.addi v5257 c1_i32_3221
  let c256_i32_3222 : BitVec 32 := 256#32
  let v5259 : BitVec 32 := Scalar.muli v5258 c256_i32_3222
  let c85_i32_3223 : BitVec 32 := 85#32
  let v5260 : BitVec 32 := Scalar.addi v5259 c85_i32_3223
  let v5262 : Index := Scalar.indexCast v5260
  ![0, 0, v5262.toNat]
def k0_mult685 (v5263 : BitVec 32) : BitVec 32 :=
  v5263

def k0_mult686 (i : grid0.Coords) : BitVec 32 :=
  let arg1 : BitVec 32 := BitVec.ofNat 32 (i 1).val
  let c2_i32_3220 : BitVec 32 := 2#32
  let v5257 : BitVec 32 := Scalar.muli arg1 c2_i32_3220
  let c1_i32_3221 : BitVec 32 := 1#32
  let v5258 : BitVec 32 := Scalar.addi v5257 c1_i32_3221
  let c256_i32_3222 : BitVec 32 := 256#32
  let v5259 : BitVec 32 := Scalar.muli v5258 c256_i32_3222
  let c85_i32_3223 : BitVec 32 := 85#32
  let v5260 : BitVec 32 := Scalar.addi v5259 c85_i32_3223
  let c8_i32_3227 : BitVec 32 := 8#32
  let v5265 : BitVec 32 := Scalar.muli v5260 c8_i32_3227
  v5265
def k0_off1387 (i : grid0.Coords) : Fin 1 → Nat :=
  let c1_i32_3224 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5261 : BitVec 32 := Scalar.subi c1_i32_3224 v9
  ![v5261.toNat]
def k0_off1388 (i : grid0.Coords) : Fin 3 → Nat :=
  let c1_i32_3224 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5261 : BitVec 32 := Scalar.subi c1_i32_3224 v9
  let arg1 : BitVec 32 := BitVec.ofNat 32 (i 1).val
  let c2_i32_3220 : BitVec 32 := 2#32
  let v5257 : BitVec 32 := Scalar.muli arg1 c2_i32_3220
  let c1_i32_3221 : BitVec 32 := 1#32
  let v5258 : BitVec 32 := Scalar.addi v5257 c1_i32_3221
  let c256_i32_3222 : BitVec 32 := 256#32
  let v5259 : BitVec 32 := Scalar.muli v5258 c256_i32_3222
  let c85_i32_3223 : BitVec 32 := 85#32
  let v5260 : BitVec 32 := Scalar.addi v5259 c85_i32_3223
  let c8_i32_3227 : BitVec 32 := 8#32
  let v5265 : BitVec 32 := Scalar.muli v5260 c8_i32_3227
  let v5266 : BitVec 32 := v5265
  let c0_i32_3228 : BitVec 32 := 0#32
  ![v5261.toNat, v5266.toNat, 0]
def k0_off1389 (v5263 : BitVec 32) : Fin 2 → Nat :=
  let v5264 : BitVec 32 := v5263
  let c0_i32_3229 : BitVec 32 := 0#32
  ![v5264.toNat, 0]

def k0_chk343 (i : grid0.Coords) (v5263 : BitVec 32) : Prop :=
  (∀ (k0_h2 : k0_cond2 i = 1#1), 8 ∣ (k0_mult685 v5263).toNat) ∧
  (∀ (k0_h2 : k0_cond2 i = 1#1), ∀ a, (k0_off1389 v5263) a + S8x128.size a ≤ S131072x128.size a)
theorem k0_mult685_dvd : ∀ (i : grid0.Coords) (v5263 : BitVec 32) (k0_hw343 : k0_chk343 i v5263), ∀ (k0_h2 : k0_cond2 i = 1#1), 8 ∣ (k0_mult685 v5263).toNat := fun i v5263 k0_hw343 k0_h2 => k0_hw343.1 k0_h2
theorem k0_off1389_inb : ∀ (i : grid0.Coords) (v5263 : BitVec 32) (k0_hw343 : k0_chk343 i v5263), ∀ (k0_h2 : k0_cond2 i = 1#1), ∀ a, (k0_off1389 v5263) a + S8x128.size a ≤ S131072x128.size a := fun i v5263 k0_hw343 k0_h2 => k0_hw343.2 k0_h2

def k0_off1390 (i : grid0.Coords) : Fin 3 → Nat :=
  let c0_3235 : Index := 0#32
  let c0_3236 : Index := 0#32
  let arg1 : BitVec 32 := BitVec.ofNat 32 (i 1).val
  let c2_i32_3230 : BitVec 32 := 2#32
  let v5272 : BitVec 32 := Scalar.muli arg1 c2_i32_3230
  let c1_i32_3231 : BitVec 32 := 1#32
  let v5273 : BitVec 32 := Scalar.addi v5272 c1_i32_3231
  let c256_i32_3232 : BitVec 32 := 256#32
  let v5274 : BitVec 32 := Scalar.muli v5273 c256_i32_3232
  let c86_i32_3233 : BitVec 32 := 86#32
  let v5275 : BitVec 32 := Scalar.addi v5274 c86_i32_3233
  let v5277 : Index := Scalar.indexCast v5275
  ![0, 0, v5277.toNat]
def k0_mult687 (v5278 : BitVec 32) : BitVec 32 :=
  v5278

def k0_mult688 (i : grid0.Coords) : BitVec 32 :=
  let arg1 : BitVec 32 := BitVec.ofNat 32 (i 1).val
  let c2_i32_3230 : BitVec 32 := 2#32
  let v5272 : BitVec 32 := Scalar.muli arg1 c2_i32_3230
  let c1_i32_3231 : BitVec 32 := 1#32
  let v5273 : BitVec 32 := Scalar.addi v5272 c1_i32_3231
  let c256_i32_3232 : BitVec 32 := 256#32
  let v5274 : BitVec 32 := Scalar.muli v5273 c256_i32_3232
  let c86_i32_3233 : BitVec 32 := 86#32
  let v5275 : BitVec 32 := Scalar.addi v5274 c86_i32_3233
  let c8_i32_3237 : BitVec 32 := 8#32
  let v5280 : BitVec 32 := Scalar.muli v5275 c8_i32_3237
  v5280
def k0_off1391 (i : grid0.Coords) : Fin 1 → Nat :=
  let c1_i32_3234 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5276 : BitVec 32 := Scalar.subi c1_i32_3234 v9
  ![v5276.toNat]
def k0_off1392 (i : grid0.Coords) : Fin 3 → Nat :=
  let c1_i32_3234 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5276 : BitVec 32 := Scalar.subi c1_i32_3234 v9
  let arg1 : BitVec 32 := BitVec.ofNat 32 (i 1).val
  let c2_i32_3230 : BitVec 32 := 2#32
  let v5272 : BitVec 32 := Scalar.muli arg1 c2_i32_3230
  let c1_i32_3231 : BitVec 32 := 1#32
  let v5273 : BitVec 32 := Scalar.addi v5272 c1_i32_3231
  let c256_i32_3232 : BitVec 32 := 256#32
  let v5274 : BitVec 32 := Scalar.muli v5273 c256_i32_3232
  let c86_i32_3233 : BitVec 32 := 86#32
  let v5275 : BitVec 32 := Scalar.addi v5274 c86_i32_3233
  let c8_i32_3237 : BitVec 32 := 8#32
  let v5280 : BitVec 32 := Scalar.muli v5275 c8_i32_3237
  let v5281 : BitVec 32 := v5280
  let c0_i32_3238 : BitVec 32 := 0#32
  ![v5276.toNat, v5281.toNat, 0]
def k0_off1393 (v5278 : BitVec 32) : Fin 2 → Nat :=
  let v5279 : BitVec 32 := v5278
  let c0_i32_3239 : BitVec 32 := 0#32
  ![v5279.toNat, 0]

def k0_chk344 (i : grid0.Coords) (v5278 : BitVec 32) : Prop :=
  (∀ (k0_h2 : k0_cond2 i = 1#1), 8 ∣ (k0_mult687 v5278).toNat) ∧
  (∀ (k0_h2 : k0_cond2 i = 1#1), ∀ a, (k0_off1393 v5278) a + S8x128.size a ≤ S131072x128.size a)
theorem k0_mult687_dvd : ∀ (i : grid0.Coords) (v5278 : BitVec 32) (k0_hw344 : k0_chk344 i v5278), ∀ (k0_h2 : k0_cond2 i = 1#1), 8 ∣ (k0_mult687 v5278).toNat := fun i v5278 k0_hw344 k0_h2 => k0_hw344.1 k0_h2
theorem k0_off1393_inb : ∀ (i : grid0.Coords) (v5278 : BitVec 32) (k0_hw344 : k0_chk344 i v5278), ∀ (k0_h2 : k0_cond2 i = 1#1), ∀ a, (k0_off1393 v5278) a + S8x128.size a ≤ S131072x128.size a := fun i v5278 k0_hw344 k0_h2 => k0_hw344.2 k0_h2

def k0_off1394 (i : grid0.Coords) : Fin 3 → Nat :=
  let c0_3245 : Index := 0#32
  let c0_3246 : Index := 0#32
  let arg1 : BitVec 32 := BitVec.ofNat 32 (i 1).val
  let c2_i32_3240 : BitVec 32 := 2#32
  let v5287 : BitVec 32 := Scalar.muli arg1 c2_i32_3240
  let c1_i32_3241 : BitVec 32 := 1#32
  let v5288 : BitVec 32 := Scalar.addi v5287 c1_i32_3241
  let c256_i32_3242 : BitVec 32 := 256#32
  let v5289 : BitVec 32 := Scalar.muli v5288 c256_i32_3242
  let c87_i32_3243 : BitVec 32 := 87#32
  let v5290 : BitVec 32 := Scalar.addi v5289 c87_i32_3243
  let v5292 : Index := Scalar.indexCast v5290
  ![0, 0, v5292.toNat]
def k0_mult689 (v5293 : BitVec 32) : BitVec 32 :=
  v5293

def k0_mult690 (i : grid0.Coords) : BitVec 32 :=
  let arg1 : BitVec 32 := BitVec.ofNat 32 (i 1).val
  let c2_i32_3240 : BitVec 32 := 2#32
  let v5287 : BitVec 32 := Scalar.muli arg1 c2_i32_3240
  let c1_i32_3241 : BitVec 32 := 1#32
  let v5288 : BitVec 32 := Scalar.addi v5287 c1_i32_3241
  let c256_i32_3242 : BitVec 32 := 256#32
  let v5289 : BitVec 32 := Scalar.muli v5288 c256_i32_3242
  let c87_i32_3243 : BitVec 32 := 87#32
  let v5290 : BitVec 32 := Scalar.addi v5289 c87_i32_3243
  let c8_i32_3247 : BitVec 32 := 8#32
  let v5295 : BitVec 32 := Scalar.muli v5290 c8_i32_3247
  v5295
def k0_off1395 (i : grid0.Coords) : Fin 1 → Nat :=
  let c1_i32_3244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5291 : BitVec 32 := Scalar.subi c1_i32_3244 v9
  ![v5291.toNat]
def k0_off1396 (i : grid0.Coords) : Fin 3 → Nat :=
  let c1_i32_3244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5291 : BitVec 32 := Scalar.subi c1_i32_3244 v9
  let arg1 : BitVec 32 := BitVec.ofNat 32 (i 1).val
  let c2_i32_3240 : BitVec 32 := 2#32
  let v5287 : BitVec 32 := Scalar.muli arg1 c2_i32_3240
  let c1_i32_3241 : BitVec 32 := 1#32
  let v5288 : BitVec 32 := Scalar.addi v5287 c1_i32_3241
  let c256_i32_3242 : BitVec 32 := 256#32
  let v5289 : BitVec 32 := Scalar.muli v5288 c256_i32_3242
  let c87_i32_3243 : BitVec 32 := 87#32
  let v5290 : BitVec 32 := Scalar.addi v5289 c87_i32_3243
  let c8_i32_3247 : BitVec 32 := 8#32
  let v5295 : BitVec 32 := Scalar.muli v5290 c8_i32_3247
  let v5296 : BitVec 32 := v5295
  let c0_i32_3248 : BitVec 32 := 0#32
  ![v5291.toNat, v5296.toNat, 0]
def k0_off1397 (v5293 : BitVec 32) : Fin 2 → Nat :=
  let v5294 : BitVec 32 := v5293
  let c0_i32_3249 : BitVec 32 := 0#32
  ![v5294.toNat, 0]

def k0_chk345 (i : grid0.Coords) (v5293 : BitVec 32) : Prop :=
  (∀ (k0_h2 : k0_cond2 i = 1#1), 8 ∣ (k0_mult689 v5293).toNat) ∧
  (∀ (k0_h2 : k0_cond2 i = 1#1), ∀ a, (k0_off1397 v5293) a + S8x128.size a ≤ S131072x128.size a)
theorem k0_mult689_dvd : ∀ (i : grid0.Coords) (v5293 : BitVec 32) (k0_hw345 : k0_chk345 i v5293), ∀ (k0_h2 : k0_cond2 i = 1#1), 8 ∣ (k0_mult689 v5293).toNat := fun i v5293 k0_hw345 k0_h2 => k0_hw345.1 k0_h2
theorem k0_off1397_inb : ∀ (i : grid0.Coords) (v5293 : BitVec 32) (k0_hw345 : k0_chk345 i v5293), ∀ (k0_h2 : k0_cond2 i = 1#1), ∀ a, (k0_off1397 v5293) a + S8x128.size a ≤ S131072x128.size a := fun i v5293 k0_hw345 k0_h2 => k0_hw345.2 k0_h2

def k0_off1398 (i : grid0.Coords) : Fin 3 → Nat :=
  let c0_3255 : Index := 0#32
  let c0_3256 : Index := 0#32
  let arg1 : BitVec 32 := BitVec.ofNat 32 (i 1).val
  let c2_i32_3250 : BitVec 32 := 2#32
  let v5302 : BitVec 32 := Scalar.muli arg1 c2_i32_3250
  let c1_i32_3251 : BitVec 32 := 1#32
  let v5303 : BitVec 32 := Scalar.addi v5302 c1_i32_3251
  let c256_i32_3252 : BitVec 32 := 256#32
  let v5304 : BitVec 32 := Scalar.muli v5303 c256_i32_3252
  let c88_i32_3253 : BitVec 32 := 88#32
  let v5305 : BitVec 32 := Scalar.addi v5304 c88_i32_3253
  let v5307 : Index := Scalar.indexCast v5305
  ![0, 0, v5307.toNat]
def k0_mult691 (v5308 : BitVec 32) : BitVec 32 :=
  v5308

def k0_mult692 (i : grid0.Coords) : BitVec 32 :=
  let arg1 : BitVec 32 := BitVec.ofNat 32 (i 1).val
  let c2_i32_3250 : BitVec 32 := 2#32
  let v5302 : BitVec 32 := Scalar.muli arg1 c2_i32_3250
  let c1_i32_3251 : BitVec 32 := 1#32
  let v5303 : BitVec 32 := Scalar.addi v5302 c1_i32_3251
  let c256_i32_3252 : BitVec 32 := 256#32
  let v5304 : BitVec 32 := Scalar.muli v5303 c256_i32_3252
  let c88_i32_3253 : BitVec 32 := 88#32
  let v5305 : BitVec 32 := Scalar.addi v5304 c88_i32_3253
  let c8_i32_3257 : BitVec 32 := 8#32
  let v5310 : BitVec 32 := Scalar.muli v5305 c8_i32_3257
  v5310
def k0_off1399 (i : grid0.Coords) : Fin 1 → Nat :=
  let c1_i32_3254 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5306 : BitVec 32 := Scalar.subi c1_i32_3254 v9
  ![v5306.toNat]
def k0_off1400 (i : grid0.Coords) : Fin 3 → Nat :=
  let c1_i32_3254 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5306 : BitVec 32 := Scalar.subi c1_i32_3254 v9
  let arg1 : BitVec 32 := BitVec.ofNat 32 (i 1).val
  let c2_i32_3250 : BitVec 32 := 2#32
  let v5302 : BitVec 32 := Scalar.muli arg1 c2_i32_3250
  let c1_i32_3251 : BitVec 32 := 1#32
  let v5303 : BitVec 32 := Scalar.addi v5302 c1_i32_3251
  let c256_i32_3252 : BitVec 32 := 256#32
  let v5304 : BitVec 32 := Scalar.muli v5303 c256_i32_3252
  let c88_i32_3253 : BitVec 32 := 88#32
  let v5305 : BitVec 32 := Scalar.addi v5304 c88_i32_3253
  let c8_i32_3257 : BitVec 32 := 8#32
  let v5310 : BitVec 32 := Scalar.muli v5305 c8_i32_3257
  let v5311 : BitVec 32 := v5310
  let c0_i32_3258 : BitVec 32 := 0#32
  ![v5306.toNat, v5311.toNat, 0]
def k0_off1401 (v5308 : BitVec 32) : Fin 2 → Nat :=
  let v5309 : BitVec 32 := v5308
  let c0_i32_3259 : BitVec 32 := 0#32
  ![v5309.toNat, 0]

def k0_chk346 (i : grid0.Coords) (v5308 : BitVec 32) : Prop :=
  (∀ (k0_h2 : k0_cond2 i = 1#1), 8 ∣ (k0_mult691 v5308).toNat) ∧
  (∀ (k0_h2 : k0_cond2 i = 1#1), ∀ a, (k0_off1401 v5308) a + S8x128.size a ≤ S131072x128.size a)
theorem k0_mult691_dvd : ∀ (i : grid0.Coords) (v5308 : BitVec 32) (k0_hw346 : k0_chk346 i v5308), ∀ (k0_h2 : k0_cond2 i = 1#1), 8 ∣ (k0_mult691 v5308).toNat := fun i v5308 k0_hw346 k0_h2 => k0_hw346.1 k0_h2
theorem k0_off1401_inb : ∀ (i : grid0.Coords) (v5308 : BitVec 32) (k0_hw346 : k0_chk346 i v5308), ∀ (k0_h2 : k0_cond2 i = 1#1), ∀ a, (k0_off1401 v5308) a + S8x128.size a ≤ S131072x128.size a := fun i v5308 k0_hw346 k0_h2 => k0_hw346.2 k0_h2

def k0_off1402 (i : grid0.Coords) : Fin 3 → Nat :=
  let c0_3265 : Index := 0#32
  let c0_3266 : Index := 0#32
  let arg1 : BitVec 32 := BitVec.ofNat 32 (i 1).val
  let c2_i32_3260 : BitVec 32 := 2#32
  let v5317 : BitVec 32 := Scalar.muli arg1 c2_i32_3260
  let c1_i32_3261 : BitVec 32 := 1#32
  let v5318 : BitVec 32 := Scalar.addi v5317 c1_i32_3261
  let c256_i32_3262 : BitVec 32 := 256#32
  let v5319 : BitVec 32 := Scalar.muli v5318 c256_i32_3262
  let c89_i32_3263 : BitVec 32 := 89#32
  let v5320 : BitVec 32 := Scalar.addi v5319 c89_i32_3263
  let v5322 : Index := Scalar.indexCast v5320
  ![0, 0, v5322.toNat]
def k0_mult693 (v5323 : BitVec 32) : BitVec 32 :=
  v5323

def k0_mult694 (i : grid0.Coords) : BitVec 32 :=
  let arg1 : BitVec 32 := BitVec.ofNat 32 (i 1).val
  let c2_i32_3260 : BitVec 32 := 2#32
  let v5317 : BitVec 32 := Scalar.muli arg1 c2_i32_3260
  let c1_i32_3261 : BitVec 32 := 1#32
  let v5318 : BitVec 32 := Scalar.addi v5317 c1_i32_3261
  let c256_i32_3262 : BitVec 32 := 256#32
  let v5319 : BitVec 32 := Scalar.muli v5318 c256_i32_3262
  let c89_i32_3263 : BitVec 32 := 89#32
  let v5320 : BitVec 32 := Scalar.addi v5319 c89_i32_3263
  let c8_i32_3267 : BitVec 32 := 8#32
  let v5325 : BitVec 32 := Scalar.muli v5320 c8_i32_3267
  v5325
def k0_off1403 (i : grid0.Coords) : Fin 1 → Nat :=
  let c1_i32_3264 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5321 : BitVec 32 := Scalar.subi c1_i32_3264 v9
  ![v5321.toNat]
def k0_off1404 (i : grid0.Coords) : Fin 3 → Nat :=
  let c1_i32_3264 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5321 : BitVec 32 := Scalar.subi c1_i32_3264 v9
  let arg1 : BitVec 32 := BitVec.ofNat 32 (i 1).val
  let c2_i32_3260 : BitVec 32 := 2#32
  let v5317 : BitVec 32 := Scalar.muli arg1 c2_i32_3260
  let c1_i32_3261 : BitVec 32 := 1#32
  let v5318 : BitVec 32 := Scalar.addi v5317 c1_i32_3261
  let c256_i32_3262 : BitVec 32 := 256#32
  let v5319 : BitVec 32 := Scalar.muli v5318 c256_i32_3262
  let c89_i32_3263 : BitVec 32 := 89#32
  let v5320 : BitVec 32 := Scalar.addi v5319 c89_i32_3263
  let c8_i32_3267 : BitVec 32 := 8#32
  let v5325 : BitVec 32 := Scalar.muli v5320 c8_i32_3267
  let v5326 : BitVec 32 := v5325
  let c0_i32_3268 : BitVec 32 := 0#32
  ![v5321.toNat, v5326.toNat, 0]
def k0_off1405 (v5323 : BitVec 32) : Fin 2 → Nat :=
  let v5324 : BitVec 32 := v5323
  let c0_i32_3269 : BitVec 32 := 0#32
  ![v5324.toNat, 0]

def k0_chk347 (i : grid0.Coords) (v5323 : BitVec 32) : Prop :=
  (∀ (k0_h2 : k0_cond2 i = 1#1), 8 ∣ (k0_mult693 v5323).toNat) ∧
  (∀ (k0_h2 : k0_cond2 i = 1#1), ∀ a, (k0_off1405 v5323) a + S8x128.size a ≤ S131072x128.size a)
theorem k0_mult693_dvd : ∀ (i : grid0.Coords) (v5323 : BitVec 32) (k0_hw347 : k0_chk347 i v5323), ∀ (k0_h2 : k0_cond2 i = 1#1), 8 ∣ (k0_mult693 v5323).toNat := fun i v5323 k0_hw347 k0_h2 => k0_hw347.1 k0_h2
theorem k0_off1405_inb : ∀ (i : grid0.Coords) (v5323 : BitVec 32) (k0_hw347 : k0_chk347 i v5323), ∀ (k0_h2 : k0_cond2 i = 1#1), ∀ a, (k0_off1405 v5323) a + S8x128.size a ≤ S131072x128.size a := fun i v5323 k0_hw347 k0_h2 => k0_hw347.2 k0_h2

def k0_off1406 (i : grid0.Coords) : Fin 3 → Nat :=
  let c0_3275 : Index := 0#32
  let c0_3276 : Index := 0#32
  let arg1 : BitVec 32 := BitVec.ofNat 32 (i 1).val
  let c2_i32_3270 : BitVec 32 := 2#32
  let v5332 : BitVec 32 := Scalar.muli arg1 c2_i32_3270
  let c1_i32_3271 : BitVec 32 := 1#32
  let v5333 : BitVec 32 := Scalar.addi v5332 c1_i32_3271
  let c256_i32_3272 : BitVec 32 := 256#32
  let v5334 : BitVec 32 := Scalar.muli v5333 c256_i32_3272
  let c90_i32_3273 : BitVec 32 := 90#32
  let v5335 : BitVec 32 := Scalar.addi v5334 c90_i32_3273
  let v5337 : Index := Scalar.indexCast v5335
  ![0, 0, v5337.toNat]
def k0_mult695 (v5338 : BitVec 32) : BitVec 32 :=
  v5338

def k0_mult696 (i : grid0.Coords) : BitVec 32 :=
  let arg1 : BitVec 32 := BitVec.ofNat 32 (i 1).val
  let c2_i32_3270 : BitVec 32 := 2#32
  let v5332 : BitVec 32 := Scalar.muli arg1 c2_i32_3270
  let c1_i32_3271 : BitVec 32 := 1#32
  let v5333 : BitVec 32 := Scalar.addi v5332 c1_i32_3271
  let c256_i32_3272 : BitVec 32 := 256#32
  let v5334 : BitVec 32 := Scalar.muli v5333 c256_i32_3272
  let c90_i32_3273 : BitVec 32 := 90#32
  let v5335 : BitVec 32 := Scalar.addi v5334 c90_i32_3273
  let c8_i32_3277 : BitVec 32 := 8#32
  let v5340 : BitVec 32 := Scalar.muli v5335 c8_i32_3277
  v5340
def k0_off1407 (i : grid0.Coords) : Fin 1 → Nat :=
  let c1_i32_3274 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5336 : BitVec 32 := Scalar.subi c1_i32_3274 v9
  ![v5336.toNat]
def k0_off1408 (i : grid0.Coords) : Fin 3 → Nat :=
  let c1_i32_3274 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5336 : BitVec 32 := Scalar.subi c1_i32_3274 v9
  let arg1 : BitVec 32 := BitVec.ofNat 32 (i 1).val
  let c2_i32_3270 : BitVec 32 := 2#32
  let v5332 : BitVec 32 := Scalar.muli arg1 c2_i32_3270
  let c1_i32_3271 : BitVec 32 := 1#32
  let v5333 : BitVec 32 := Scalar.addi v5332 c1_i32_3271
  let c256_i32_3272 : BitVec 32 := 256#32
  let v5334 : BitVec 32 := Scalar.muli v5333 c256_i32_3272
  let c90_i32_3273 : BitVec 32 := 90#32
  let v5335 : BitVec 32 := Scalar.addi v5334 c90_i32_3273
  let c8_i32_3277 : BitVec 32 := 8#32
  let v5340 : BitVec 32 := Scalar.muli v5335 c8_i32_3277
  let v5341 : BitVec 32 := v5340
  let c0_i32_3278 : BitVec 32 := 0#32
  ![v5336.toNat, v5341.toNat, 0]
def k0_off1409 (v5338 : BitVec 32) : Fin 2 → Nat :=
  let v5339 : BitVec 32 := v5338
  let c0_i32_3279 : BitVec 32 := 0#32
  ![v5339.toNat, 0]

def k0_chk348 (i : grid0.Coords) (v5338 : BitVec 32) : Prop :=
  (∀ (k0_h2 : k0_cond2 i = 1#1), 8 ∣ (k0_mult695 v5338).toNat) ∧
  (∀ (k0_h2 : k0_cond2 i = 1#1), ∀ a, (k0_off1409 v5338) a + S8x128.size a ≤ S131072x128.size a)
theorem k0_mult695_dvd : ∀ (i : grid0.Coords) (v5338 : BitVec 32) (k0_hw348 : k0_chk348 i v5338), ∀ (k0_h2 : k0_cond2 i = 1#1), 8 ∣ (k0_mult695 v5338).toNat := fun i v5338 k0_hw348 k0_h2 => k0_hw348.1 k0_h2
theorem k0_off1409_inb : ∀ (i : grid0.Coords) (v5338 : BitVec 32) (k0_hw348 : k0_chk348 i v5338), ∀ (k0_h2 : k0_cond2 i = 1#1), ∀ a, (k0_off1409 v5338) a + S8x128.size a ≤ S131072x128.size a := fun i v5338 k0_hw348 k0_h2 => k0_hw348.2 k0_h2

def k0_off1410 (i : grid0.Coords) : Fin 3 → Nat :=
  let c0_3285 : Index := 0#32
  let c0_3286 : Index := 0#32
  let arg1 : BitVec 32 := BitVec.ofNat 32 (i 1).val
  let c2_i32_3280 : BitVec 32 := 2#32
  let v5347 : BitVec 32 := Scalar.muli arg1 c2_i32_3280
  let c1_i32_3281 : BitVec 32 := 1#32
  let v5348 : BitVec 32 := Scalar.addi v5347 c1_i32_3281
  let c256_i32_3282 : BitVec 32 := 256#32
  let v5349 : BitVec 32 := Scalar.muli v5348 c256_i32_3282
  let c91_i32_3283 : BitVec 32 := 91#32
  let v5350 : BitVec 32 := Scalar.addi v5349 c91_i32_3283
  let v5352 : Index := Scalar.indexCast v5350
  ![0, 0, v5352.toNat]
def k0_mult697 (v5353 : BitVec 32) : BitVec 32 :=
  v5353

def k0_mult698 (i : grid0.Coords) : BitVec 32 :=
  let arg1 : BitVec 32 := BitVec.ofNat 32 (i 1).val
  let c2_i32_3280 : BitVec 32 := 2#32
  let v5347 : BitVec 32 := Scalar.muli arg1 c2_i32_3280
  let c1_i32_3281 : BitVec 32 := 1#32
  let v5348 : BitVec 32 := Scalar.addi v5347 c1_i32_3281
  let c256_i32_3282 : BitVec 32 := 256#32
  let v5349 : BitVec 32 := Scalar.muli v5348 c256_i32_3282
  let c91_i32_3283 : BitVec 32 := 91#32
  let v5350 : BitVec 32 := Scalar.addi v5349 c91_i32_3283
  let c8_i32_3287 : BitVec 32 := 8#32
  let v5355 : BitVec 32 := Scalar.muli v5350 c8_i32_3287
  v5355
def k0_off1411 (i : grid0.Coords) : Fin 1 → Nat :=
  let c1_i32_3284 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5351 : BitVec 32 := Scalar.subi c1_i32_3284 v9
  ![v5351.toNat]
def k0_off1412 (i : grid0.Coords) : Fin 3 → Nat :=
  let c1_i32_3284 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5351 : BitVec 32 := Scalar.subi c1_i32_3284 v9
  let arg1 : BitVec 32 := BitVec.ofNat 32 (i 1).val
  let c2_i32_3280 : BitVec 32 := 2#32
  let v5347 : BitVec 32 := Scalar.muli arg1 c2_i32_3280
  let c1_i32_3281 : BitVec 32 := 1#32
  let v5348 : BitVec 32 := Scalar.addi v5347 c1_i32_3281
  let c256_i32_3282 : BitVec 32 := 256#32
  let v5349 : BitVec 32 := Scalar.muli v5348 c256_i32_3282
  let c91_i32_3283 : BitVec 32 := 91#32
  let v5350 : BitVec 32 := Scalar.addi v5349 c91_i32_3283
  let c8_i32_3287 : BitVec 32 := 8#32
  let v5355 : BitVec 32 := Scalar.muli v5350 c8_i32_3287
  let v5356 : BitVec 32 := v5355
  let c0_i32_3288 : BitVec 32 := 0#32
  ![v5351.toNat, v5356.toNat, 0]
def k0_off1413 (v5353 : BitVec 32) : Fin 2 → Nat :=
  let v5354 : BitVec 32 := v5353
  let c0_i32_3289 : BitVec 32 := 0#32
  ![v5354.toNat, 0]

def k0_chk349 (i : grid0.Coords) (v5353 : BitVec 32) : Prop :=
  (∀ (k0_h2 : k0_cond2 i = 1#1), 8 ∣ (k0_mult697 v5353).toNat) ∧
  (∀ (k0_h2 : k0_cond2 i = 1#1), ∀ a, (k0_off1413 v5353) a + S8x128.size a ≤ S131072x128.size a)
theorem k0_mult697_dvd : ∀ (i : grid0.Coords) (v5353 : BitVec 32) (k0_hw349 : k0_chk349 i v5353), ∀ (k0_h2 : k0_cond2 i = 1#1), 8 ∣ (k0_mult697 v5353).toNat := fun i v5353 k0_hw349 k0_h2 => k0_hw349.1 k0_h2
theorem k0_off1413_inb : ∀ (i : grid0.Coords) (v5353 : BitVec 32) (k0_hw349 : k0_chk349 i v5353), ∀ (k0_h2 : k0_cond2 i = 1#1), ∀ a, (k0_off1413 v5353) a + S8x128.size a ≤ S131072x128.size a := fun i v5353 k0_hw349 k0_h2 => k0_hw349.2 k0_h2

def k0_off1414 (i : grid0.Coords) : Fin 3 → Nat :=
  let c0_3295 : Index := 0#32
  let c0_3296 : Index := 0#32
  let arg1 : BitVec 32 := BitVec.ofNat 32 (i 1).val
  let c2_i32_3290 : BitVec 32 := 2#32
  let v5362 : BitVec 32 := Scalar.muli arg1 c2_i32_3290
  let c1_i32_3291 : BitVec 32 := 1#32
  let v5363 : BitVec 32 := Scalar.addi v5362 c1_i32_3291
  let c256_i32_3292 : BitVec 32 := 256#32
  let v5364 : BitVec 32 := Scalar.muli v5363 c256_i32_3292
  let c92_i32_3293 : BitVec 32 := 92#32
  let v5365 : BitVec 32 := Scalar.addi v5364 c92_i32_3293
  let v5367 : Index := Scalar.indexCast v5365
  ![0, 0, v5367.toNat]
def k0_mult699 (v5368 : BitVec 32) : BitVec 32 :=
  v5368

def k0_mult700 (i : grid0.Coords) : BitVec 32 :=
  let arg1 : BitVec 32 := BitVec.ofNat 32 (i 1).val
  let c2_i32_3290 : BitVec 32 := 2#32
  let v5362 : BitVec 32 := Scalar.muli arg1 c2_i32_3290
  let c1_i32_3291 : BitVec 32 := 1#32
  let v5363 : BitVec 32 := Scalar.addi v5362 c1_i32_3291
  let c256_i32_3292 : BitVec 32 := 256#32
  let v5364 : BitVec 32 := Scalar.muli v5363 c256_i32_3292
  let c92_i32_3293 : BitVec 32 := 92#32
  let v5365 : BitVec 32 := Scalar.addi v5364 c92_i32_3293
  let c8_i32_3297 : BitVec 32 := 8#32
  let v5370 : BitVec 32 := Scalar.muli v5365 c8_i32_3297
  v5370
def k0_off1415 (i : grid0.Coords) : Fin 1 → Nat :=
  let c1_i32_3294 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5366 : BitVec 32 := Scalar.subi c1_i32_3294 v9
  ![v5366.toNat]
def k0_off1416 (i : grid0.Coords) : Fin 3 → Nat :=
  let c1_i32_3294 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5366 : BitVec 32 := Scalar.subi c1_i32_3294 v9
  let arg1 : BitVec 32 := BitVec.ofNat 32 (i 1).val
  let c2_i32_3290 : BitVec 32 := 2#32
  let v5362 : BitVec 32 := Scalar.muli arg1 c2_i32_3290
  let c1_i32_3291 : BitVec 32 := 1#32
  let v5363 : BitVec 32 := Scalar.addi v5362 c1_i32_3291
  let c256_i32_3292 : BitVec 32 := 256#32
  let v5364 : BitVec 32 := Scalar.muli v5363 c256_i32_3292
  let c92_i32_3293 : BitVec 32 := 92#32
  let v5365 : BitVec 32 := Scalar.addi v5364 c92_i32_3293
  let c8_i32_3297 : BitVec 32 := 8#32
  let v5370 : BitVec 32 := Scalar.muli v5365 c8_i32_3297
  let v5371 : BitVec 32 := v5370
  let c0_i32_3298 : BitVec 32 := 0#32
  ![v5366.toNat, v5371.toNat, 0]
def k0_off1417 (v5368 : BitVec 32) : Fin 2 → Nat :=
  let v5369 : BitVec 32 := v5368
  let c0_i32_3299 : BitVec 32 := 0#32
  ![v5369.toNat, 0]

def k0_chk350 (i : grid0.Coords) (v5368 : BitVec 32) : Prop :=
  (∀ (k0_h2 : k0_cond2 i = 1#1), 8 ∣ (k0_mult699 v5368).toNat) ∧
  (∀ (k0_h2 : k0_cond2 i = 1#1), ∀ a, (k0_off1417 v5368) a + S8x128.size a ≤ S131072x128.size a)
theorem k0_mult699_dvd : ∀ (i : grid0.Coords) (v5368 : BitVec 32) (k0_hw350 : k0_chk350 i v5368), ∀ (k0_h2 : k0_cond2 i = 1#1), 8 ∣ (k0_mult699 v5368).toNat := fun i v5368 k0_hw350 k0_h2 => k0_hw350.1 k0_h2
theorem k0_off1417_inb : ∀ (i : grid0.Coords) (v5368 : BitVec 32) (k0_hw350 : k0_chk350 i v5368), ∀ (k0_h2 : k0_cond2 i = 1#1), ∀ a, (k0_off1417 v5368) a + S8x128.size a ≤ S131072x128.size a := fun i v5368 k0_hw350 k0_h2 => k0_hw350.2 k0_h2

def k0_off1418 (i : grid0.Coords) : Fin 3 → Nat :=
  let c0_3305 : Index := 0#32
  let c0_3306 : Index := 0#32
  let arg1 : BitVec 32 := BitVec.ofNat 32 (i 1).val
  let c2_i32_3300 : BitVec 32 := 2#32
  let v5377 : BitVec 32 := Scalar.muli arg1 c2_i32_3300
  let c1_i32_3301 : BitVec 32 := 1#32
  let v5378 : BitVec 32 := Scalar.addi v5377 c1_i32_3301
  let c256_i32_3302 : BitVec 32 := 256#32
  let v5379 : BitVec 32 := Scalar.muli v5378 c256_i32_3302
  let c93_i32_3303 : BitVec 32 := 93#32
  let v5380 : BitVec 32 := Scalar.addi v5379 c93_i32_3303
  let v5382 : Index := Scalar.indexCast v5380
  ![0, 0, v5382.toNat]
def k0_mult701 (v5383 : BitVec 32) : BitVec 32 :=
  v5383

def k0_mult702 (i : grid0.Coords) : BitVec 32 :=
  let arg1 : BitVec 32 := BitVec.ofNat 32 (i 1).val
  let c2_i32_3300 : BitVec 32 := 2#32
  let v5377 : BitVec 32 := Scalar.muli arg1 c2_i32_3300
  let c1_i32_3301 : BitVec 32 := 1#32
  let v5378 : BitVec 32 := Scalar.addi v5377 c1_i32_3301
  let c256_i32_3302 : BitVec 32 := 256#32
  let v5379 : BitVec 32 := Scalar.muli v5378 c256_i32_3302
  let c93_i32_3303 : BitVec 32 := 93#32
  let v5380 : BitVec 32 := Scalar.addi v5379 c93_i32_3303
  let c8_i32_3307 : BitVec 32 := 8#32
  let v5385 : BitVec 32 := Scalar.muli v5380 c8_i32_3307
  v5385
def k0_off1419 (i : grid0.Coords) : Fin 1 → Nat :=
  let c1_i32_3304 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5381 : BitVec 32 := Scalar.subi c1_i32_3304 v9
  ![v5381.toNat]
def k0_off1420 (i : grid0.Coords) : Fin 3 → Nat :=
  let c1_i32_3304 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5381 : BitVec 32 := Scalar.subi c1_i32_3304 v9
  let arg1 : BitVec 32 := BitVec.ofNat 32 (i 1).val
  let c2_i32_3300 : BitVec 32 := 2#32
  let v5377 : BitVec 32 := Scalar.muli arg1 c2_i32_3300
  let c1_i32_3301 : BitVec 32 := 1#32
  let v5378 : BitVec 32 := Scalar.addi v5377 c1_i32_3301
  let c256_i32_3302 : BitVec 32 := 256#32
  let v5379 : BitVec 32 := Scalar.muli v5378 c256_i32_3302
  let c93_i32_3303 : BitVec 32 := 93#32
  let v5380 : BitVec 32 := Scalar.addi v5379 c93_i32_3303
  let c8_i32_3307 : BitVec 32 := 8#32
  let v5385 : BitVec 32 := Scalar.muli v5380 c8_i32_3307
  let v5386 : BitVec 32 := v5385
  let c0_i32_3308 : BitVec 32 := 0#32
  ![v5381.toNat, v5386.toNat, 0]
def k0_off1421 (v5383 : BitVec 32) : Fin 2 → Nat :=
  let v5384 : BitVec 32 := v5383
  let c0_i32_3309 : BitVec 32 := 0#32
  ![v5384.toNat, 0]

def k0_chk351 (i : grid0.Coords) (v5383 : BitVec 32) : Prop :=
  (∀ (k0_h2 : k0_cond2 i = 1#1), 8 ∣ (k0_mult701 v5383).toNat) ∧
  (∀ (k0_h2 : k0_cond2 i = 1#1), ∀ a, (k0_off1421 v5383) a + S8x128.size a ≤ S131072x128.size a)
theorem k0_mult701_dvd : ∀ (i : grid0.Coords) (v5383 : BitVec 32) (k0_hw351 : k0_chk351 i v5383), ∀ (k0_h2 : k0_cond2 i = 1#1), 8 ∣ (k0_mult701 v5383).toNat := fun i v5383 k0_hw351 k0_h2 => k0_hw351.1 k0_h2
theorem k0_off1421_inb : ∀ (i : grid0.Coords) (v5383 : BitVec 32) (k0_hw351 : k0_chk351 i v5383), ∀ (k0_h2 : k0_cond2 i = 1#1), ∀ a, (k0_off1421 v5383) a + S8x128.size a ≤ S131072x128.size a := fun i v5383 k0_hw351 k0_h2 => k0_hw351.2 k0_h2

def k0_off1422 (i : grid0.Coords) : Fin 3 → Nat :=
  let c0_3315 : Index := 0#32
  let c0_3316 : Index := 0#32
  let arg1 : BitVec 32 := BitVec.ofNat 32 (i 1).val
  let c2_i32_3310 : BitVec 32 := 2#32
  let v5392 : BitVec 32 := Scalar.muli arg1 c2_i32_3310
  let c1_i32_3311 : BitVec 32 := 1#32
  let v5393 : BitVec 32 := Scalar.addi v5392 c1_i32_3311
  let c256_i32_3312 : BitVec 32 := 256#32
  let v5394 : BitVec 32 := Scalar.muli v5393 c256_i32_3312
  let c94_i32_3313 : BitVec 32 := 94#32
  let v5395 : BitVec 32 := Scalar.addi v5394 c94_i32_3313
  let v5397 : Index := Scalar.indexCast v5395
  ![0, 0, v5397.toNat]
def k0_mult703 (v5398 : BitVec 32) : BitVec 32 :=
  v5398

def k0_mult704 (i : grid0.Coords) : BitVec 32 :=
  let arg1 : BitVec 32 := BitVec.ofNat 32 (i 1).val
  let c2_i32_3310 : BitVec 32 := 2#32
  let v5392 : BitVec 32 := Scalar.muli arg1 c2_i32_3310
  let c1_i32_3311 : BitVec 32 := 1#32
  let v5393 : BitVec 32 := Scalar.addi v5392 c1_i32_3311
  let c256_i32_3312 : BitVec 32 := 256#32
  let v5394 : BitVec 32 := Scalar.muli v5393 c256_i32_3312
  let c94_i32_3313 : BitVec 32 := 94#32
  let v5395 : BitVec 32 := Scalar.addi v5394 c94_i32_3313
  let c8_i32_3317 : BitVec 32 := 8#32
  let v5400 : BitVec 32 := Scalar.muli v5395 c8_i32_3317
  v5400
def k0_off1423 (i : grid0.Coords) : Fin 1 → Nat :=
  let c1_i32_3314 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5396 : BitVec 32 := Scalar.subi c1_i32_3314 v9
  ![v5396.toNat]
def k0_off1424 (i : grid0.Coords) : Fin 3 → Nat :=
  let c1_i32_3314 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5396 : BitVec 32 := Scalar.subi c1_i32_3314 v9
  let arg1 : BitVec 32 := BitVec.ofNat 32 (i 1).val
  let c2_i32_3310 : BitVec 32 := 2#32
  let v5392 : BitVec 32 := Scalar.muli arg1 c2_i32_3310
  let c1_i32_3311 : BitVec 32 := 1#32
  let v5393 : BitVec 32 := Scalar.addi v5392 c1_i32_3311
  let c256_i32_3312 : BitVec 32 := 256#32
  let v5394 : BitVec 32 := Scalar.muli v5393 c256_i32_3312
  let c94_i32_3313 : BitVec 32 := 94#32
  let v5395 : BitVec 32 := Scalar.addi v5394 c94_i32_3313
  let c8_i32_3317 : BitVec 32 := 8#32
  let v5400 : BitVec 32 := Scalar.muli v5395 c8_i32_3317
  let v5401 : BitVec 32 := v5400
  let c0_i32_3318 : BitVec 32 := 0#32
  ![v5396.toNat, v5401.toNat, 0]
def k0_off1425 (v5398 : BitVec 32) : Fin 2 → Nat :=
  let v5399 : BitVec 32 := v5398
  let c0_i32_3319 : BitVec 32 := 0#32
  ![v5399.toNat, 0]

def k0_chk352 (i : grid0.Coords) (v5398 : BitVec 32) : Prop :=
  (∀ (k0_h2 : k0_cond2 i = 1#1), 8 ∣ (k0_mult703 v5398).toNat) ∧
  (∀ (k0_h2 : k0_cond2 i = 1#1), ∀ a, (k0_off1425 v5398) a + S8x128.size a ≤ S131072x128.size a)
theorem k0_mult703_dvd : ∀ (i : grid0.Coords) (v5398 : BitVec 32) (k0_hw352 : k0_chk352 i v5398), ∀ (k0_h2 : k0_cond2 i = 1#1), 8 ∣ (k0_mult703 v5398).toNat := fun i v5398 k0_hw352 k0_h2 => k0_hw352.1 k0_h2
theorem k0_off1425_inb : ∀ (i : grid0.Coords) (v5398 : BitVec 32) (k0_hw352 : k0_chk352 i v5398), ∀ (k0_h2 : k0_cond2 i = 1#1), ∀ a, (k0_off1425 v5398) a + S8x128.size a ≤ S131072x128.size a := fun i v5398 k0_hw352 k0_h2 => k0_hw352.2 k0_h2

def k0_off1426 (i : grid0.Coords) : Fin 3 → Nat :=
  let c0_3325 : Index := 0#32
  let c0_3326 : Index := 0#32
  let arg1 : BitVec 32 := BitVec.ofNat 32 (i 1).val
  let c2_i32_3320 : BitVec 32 := 2#32
  let v5407 : BitVec 32 := Scalar.muli arg1 c2_i32_3320
  let c1_i32_3321 : BitVec 32 := 1#32
  let v5408 : BitVec 32 := Scalar.addi v5407 c1_i32_3321
  let c256_i32_3322 : BitVec 32 := 256#32
  let v5409 : BitVec 32 := Scalar.muli v5408 c256_i32_3322
  let c95_i32_3323 : BitVec 32 := 95#32
  let v5410 : BitVec 32 := Scalar.addi v5409 c95_i32_3323
  let v5412 : Index := Scalar.indexCast v5410
  ![0, 0, v5412.toNat]
def k0_mult705 (v5413 : BitVec 32) : BitVec 32 :=
  v5413

def k0_mult706 (i : grid0.Coords) : BitVec 32 :=
  let arg1 : BitVec 32 := BitVec.ofNat 32 (i 1).val
  let c2_i32_3320 : BitVec 32 := 2#32
  let v5407 : BitVec 32 := Scalar.muli arg1 c2_i32_3320
  let c1_i32_3321 : BitVec 32 := 1#32
  let v5408 : BitVec 32 := Scalar.addi v5407 c1_i32_3321
  let c256_i32_3322 : BitVec 32 := 256#32
  let v5409 : BitVec 32 := Scalar.muli v5408 c256_i32_3322
  let c95_i32_3323 : BitVec 32 := 95#32
  let v5410 : BitVec 32 := Scalar.addi v5409 c95_i32_3323
  let c8_i32_3327 : BitVec 32 := 8#32
  let v5415 : BitVec 32 := Scalar.muli v5410 c8_i32_3327
  v5415
def k0_off1427 (i : grid0.Coords) : Fin 1 → Nat :=
  let c1_i32_3324 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5411 : BitVec 32 := Scalar.subi c1_i32_3324 v9
  ![v5411.toNat]
def k0_off1428 (i : grid0.Coords) : Fin 3 → Nat :=
  let c1_i32_3324 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5411 : BitVec 32 := Scalar.subi c1_i32_3324 v9
  let arg1 : BitVec 32 := BitVec.ofNat 32 (i 1).val
  let c2_i32_3320 : BitVec 32 := 2#32
  let v5407 : BitVec 32 := Scalar.muli arg1 c2_i32_3320
  let c1_i32_3321 : BitVec 32 := 1#32
  let v5408 : BitVec 32 := Scalar.addi v5407 c1_i32_3321
  let c256_i32_3322 : BitVec 32 := 256#32
  let v5409 : BitVec 32 := Scalar.muli v5408 c256_i32_3322
  let c95_i32_3323 : BitVec 32 := 95#32
  let v5410 : BitVec 32 := Scalar.addi v5409 c95_i32_3323
  let c8_i32_3327 : BitVec 32 := 8#32
  let v5415 : BitVec 32 := Scalar.muli v5410 c8_i32_3327
  let v5416 : BitVec 32 := v5415
  let c0_i32_3328 : BitVec 32 := 0#32
  ![v5411.toNat, v5416.toNat, 0]
def k0_off1429 (v5413 : BitVec 32) : Fin 2 → Nat :=
  let v5414 : BitVec 32 := v5413
  let c0_i32_3329 : BitVec 32 := 0#32
  ![v5414.toNat, 0]

def k0_chk353 (i : grid0.Coords) (v5413 : BitVec 32) : Prop :=
  (∀ (k0_h2 : k0_cond2 i = 1#1), 8 ∣ (k0_mult705 v5413).toNat) ∧
  (∀ (k0_h2 : k0_cond2 i = 1#1), ∀ a, (k0_off1429 v5413) a + S8x128.size a ≤ S131072x128.size a)
theorem k0_mult705_dvd : ∀ (i : grid0.Coords) (v5413 : BitVec 32) (k0_hw353 : k0_chk353 i v5413), ∀ (k0_h2 : k0_cond2 i = 1#1), 8 ∣ (k0_mult705 v5413).toNat := fun i v5413 k0_hw353 k0_h2 => k0_hw353.1 k0_h2
theorem k0_off1429_inb : ∀ (i : grid0.Coords) (v5413 : BitVec 32) (k0_hw353 : k0_chk353 i v5413), ∀ (k0_h2 : k0_cond2 i = 1#1), ∀ a, (k0_off1429 v5413) a + S8x128.size a ≤ S131072x128.size a := fun i v5413 k0_hw353 k0_h2 => k0_hw353.2 k0_h2

def k0_off1430 (i : grid0.Coords) : Fin 3 → Nat :=
  let c0_3335 : Index := 0#32
  let c0_3336 : Index := 0#32
  let arg1 : BitVec 32 := BitVec.ofNat 32 (i 1).val
  let c2_i32_3330 : BitVec 32 := 2#32
  let v5422 : BitVec 32 := Scalar.muli arg1 c2_i32_3330
  let c1_i32_3331 : BitVec 32 := 1#32
  let v5423 : BitVec 32 := Scalar.addi v5422 c1_i32_3331
  let c256_i32_3332 : BitVec 32 := 256#32
  let v5424 : BitVec 32 := Scalar.muli v5423 c256_i32_3332
  let c96_i32_3333 : BitVec 32 := 96#32
  let v5425 : BitVec 32 := Scalar.addi v5424 c96_i32_3333
  let v5427 : Index := Scalar.indexCast v5425
  ![0, 0, v5427.toNat]
def k0_mult707 (v5428 : BitVec 32) : BitVec 32 :=
  v5428

def k0_mult708 (i : grid0.Coords) : BitVec 32 :=
  let arg1 : BitVec 32 := BitVec.ofNat 32 (i 1).val
  let c2_i32_3330 : BitVec 32 := 2#32
  let v5422 : BitVec 32 := Scalar.muli arg1 c2_i32_3330
  let c1_i32_3331 : BitVec 32 := 1#32
  let v5423 : BitVec 32 := Scalar.addi v5422 c1_i32_3331
  let c256_i32_3332 : BitVec 32 := 256#32
  let v5424 : BitVec 32 := Scalar.muli v5423 c256_i32_3332
  let c96_i32_3333 : BitVec 32 := 96#32
  let v5425 : BitVec 32 := Scalar.addi v5424 c96_i32_3333
  let c8_i32_3337 : BitVec 32 := 8#32
  let v5430 : BitVec 32 := Scalar.muli v5425 c8_i32_3337
  v5430
def k0_off1431 (i : grid0.Coords) : Fin 1 → Nat :=
  let c1_i32_3334 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5426 : BitVec 32 := Scalar.subi c1_i32_3334 v9
  ![v5426.toNat]
def k0_off1432 (i : grid0.Coords) : Fin 3 → Nat :=
  let c1_i32_3334 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5426 : BitVec 32 := Scalar.subi c1_i32_3334 v9
  let arg1 : BitVec 32 := BitVec.ofNat 32 (i 1).val
  let c2_i32_3330 : BitVec 32 := 2#32
  let v5422 : BitVec 32 := Scalar.muli arg1 c2_i32_3330
  let c1_i32_3331 : BitVec 32 := 1#32
  let v5423 : BitVec 32 := Scalar.addi v5422 c1_i32_3331
  let c256_i32_3332 : BitVec 32 := 256#32
  let v5424 : BitVec 32 := Scalar.muli v5423 c256_i32_3332
  let c96_i32_3333 : BitVec 32 := 96#32
  let v5425 : BitVec 32 := Scalar.addi v5424 c96_i32_3333
  let c8_i32_3337 : BitVec 32 := 8#32
  let v5430 : BitVec 32 := Scalar.muli v5425 c8_i32_3337
  let v5431 : BitVec 32 := v5430
  let c0_i32_3338 : BitVec 32 := 0#32
  ![v5426.toNat, v5431.toNat, 0]
def k0_off1433 (v5428 : BitVec 32) : Fin 2 → Nat :=
  let v5429 : BitVec 32 := v5428
  let c0_i32_3339 : BitVec 32 := 0#32
  ![v5429.toNat, 0]

def k0_chk354 (i : grid0.Coords) (v5428 : BitVec 32) : Prop :=
  (∀ (k0_h2 : k0_cond2 i = 1#1), 8 ∣ (k0_mult707 v5428).toNat) ∧
  (∀ (k0_h2 : k0_cond2 i = 1#1), ∀ a, (k0_off1433 v5428) a + S8x128.size a ≤ S131072x128.size a)
theorem k0_mult707_dvd : ∀ (i : grid0.Coords) (v5428 : BitVec 32) (k0_hw354 : k0_chk354 i v5428), ∀ (k0_h2 : k0_cond2 i = 1#1), 8 ∣ (k0_mult707 v5428).toNat := fun i v5428 k0_hw354 k0_h2 => k0_hw354.1 k0_h2
theorem k0_off1433_inb : ∀ (i : grid0.Coords) (v5428 : BitVec 32) (k0_hw354 : k0_chk354 i v5428), ∀ (k0_h2 : k0_cond2 i = 1#1), ∀ a, (k0_off1433 v5428) a + S8x128.size a ≤ S131072x128.size a := fun i v5428 k0_hw354 k0_h2 => k0_hw354.2 k0_h2

def k0_off1434 (i : grid0.Coords) : Fin 3 → Nat :=
  let c0_3345 : Index := 0#32
  let c0_3346 : Index := 0#32
  let arg1 : BitVec 32 := BitVec.ofNat 32 (i 1).val
  let c2_i32_3340 : BitVec 32 := 2#32
  let v5437 : BitVec 32 := Scalar.muli arg1 c2_i32_3340
  let c1_i32_3341 : BitVec 32 := 1#32
  let v5438 : BitVec 32 := Scalar.addi v5437 c1_i32_3341
  let c256_i32_3342 : BitVec 32 := 256#32
  let v5439 : BitVec 32 := Scalar.muli v5438 c256_i32_3342
  let c97_i32_3343 : BitVec 32 := 97#32
  let v5440 : BitVec 32 := Scalar.addi v5439 c97_i32_3343
  let v5442 : Index := Scalar.indexCast v5440
  ![0, 0, v5442.toNat]
def k0_mult709 (v5443 : BitVec 32) : BitVec 32 :=
  v5443

def k0_mult710 (i : grid0.Coords) : BitVec 32 :=
  let arg1 : BitVec 32 := BitVec.ofNat 32 (i 1).val
  let c2_i32_3340 : BitVec 32 := 2#32
  let v5437 : BitVec 32 := Scalar.muli arg1 c2_i32_3340
  let c1_i32_3341 : BitVec 32 := 1#32
  let v5438 : BitVec 32 := Scalar.addi v5437 c1_i32_3341
  let c256_i32_3342 : BitVec 32 := 256#32
  let v5439 : BitVec 32 := Scalar.muli v5438 c256_i32_3342
  let c97_i32_3343 : BitVec 32 := 97#32
  let v5440 : BitVec 32 := Scalar.addi v5439 c97_i32_3343
  let c8_i32_3347 : BitVec 32 := 8#32
  let v5445 : BitVec 32 := Scalar.muli v5440 c8_i32_3347
  v5445
def k0_off1435 (i : grid0.Coords) : Fin 1 → Nat :=
  let c1_i32_3344 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5441 : BitVec 32 := Scalar.subi c1_i32_3344 v9
  ![v5441.toNat]
def k0_off1436 (i : grid0.Coords) : Fin 3 → Nat :=
  let c1_i32_3344 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5441 : BitVec 32 := Scalar.subi c1_i32_3344 v9
  let arg1 : BitVec 32 := BitVec.ofNat 32 (i 1).val
  let c2_i32_3340 : BitVec 32 := 2#32
  let v5437 : BitVec 32 := Scalar.muli arg1 c2_i32_3340
  let c1_i32_3341 : BitVec 32 := 1#32
  let v5438 : BitVec 32 := Scalar.addi v5437 c1_i32_3341
  let c256_i32_3342 : BitVec 32 := 256#32
  let v5439 : BitVec 32 := Scalar.muli v5438 c256_i32_3342
  let c97_i32_3343 : BitVec 32 := 97#32
  let v5440 : BitVec 32 := Scalar.addi v5439 c97_i32_3343
  let c8_i32_3347 : BitVec 32 := 8#32
  let v5445 : BitVec 32 := Scalar.muli v5440 c8_i32_3347
  let v5446 : BitVec 32 := v5445
  let c0_i32_3348 : BitVec 32 := 0#32
  ![v5441.toNat, v5446.toNat, 0]
def k0_off1437 (v5443 : BitVec 32) : Fin 2 → Nat :=
  let v5444 : BitVec 32 := v5443
  let c0_i32_3349 : BitVec 32 := 0#32
  ![v5444.toNat, 0]

def k0_chk355 (i : grid0.Coords) (v5443 : BitVec 32) : Prop :=
  (∀ (k0_h2 : k0_cond2 i = 1#1), 8 ∣ (k0_mult709 v5443).toNat) ∧
  (∀ (k0_h2 : k0_cond2 i = 1#1), ∀ a, (k0_off1437 v5443) a + S8x128.size a ≤ S131072x128.size a)
theorem k0_mult709_dvd : ∀ (i : grid0.Coords) (v5443 : BitVec 32) (k0_hw355 : k0_chk355 i v5443), ∀ (k0_h2 : k0_cond2 i = 1#1), 8 ∣ (k0_mult709 v5443).toNat := fun i v5443 k0_hw355 k0_h2 => k0_hw355.1 k0_h2
theorem k0_off1437_inb : ∀ (i : grid0.Coords) (v5443 : BitVec 32) (k0_hw355 : k0_chk355 i v5443), ∀ (k0_h2 : k0_cond2 i = 1#1), ∀ a, (k0_off1437 v5443) a + S8x128.size a ≤ S131072x128.size a := fun i v5443 k0_hw355 k0_h2 => k0_hw355.2 k0_h2

def k0_off1438 (i : grid0.Coords) : Fin 3 → Nat :=
  let c0_3355 : Index := 0#32
  let c0_3356 : Index := 0#32
  let arg1 : BitVec 32 := BitVec.ofNat 32 (i 1).val
  let c2_i32_3350 : BitVec 32 := 2#32
  let v5452 : BitVec 32 := Scalar.muli arg1 c2_i32_3350
  let c1_i32_3351 : BitVec 32 := 1#32
  let v5453 : BitVec 32 := Scalar.addi v5452 c1_i32_3351
  let c256_i32_3352 : BitVec 32 := 256#32
  let v5454 : BitVec 32 := Scalar.muli v5453 c256_i32_3352
  let c98_i32_3353 : BitVec 32 := 98#32
  let v5455 : BitVec 32 := Scalar.addi v5454 c98_i32_3353
  let v5457 : Index := Scalar.indexCast v5455
  ![0, 0, v5457.toNat]
def k0_mult711 (v5458 : BitVec 32) : BitVec 32 :=
  v5458

def k0_mult712 (i : grid0.Coords) : BitVec 32 :=
  let arg1 : BitVec 32 := BitVec.ofNat 32 (i 1).val
  let c2_i32_3350 : BitVec 32 := 2#32
  let v5452 : BitVec 32 := Scalar.muli arg1 c2_i32_3350
  let c1_i32_3351 : BitVec 32 := 1#32
  let v5453 : BitVec 32 := Scalar.addi v5452 c1_i32_3351
  let c256_i32_3352 : BitVec 32 := 256#32
  let v5454 : BitVec 32 := Scalar.muli v5453 c256_i32_3352
  let c98_i32_3353 : BitVec 32 := 98#32
  let v5455 : BitVec 32 := Scalar.addi v5454 c98_i32_3353
  let c8_i32_3357 : BitVec 32 := 8#32
  let v5460 : BitVec 32 := Scalar.muli v5455 c8_i32_3357
  v5460
def k0_off1439 (i : grid0.Coords) : Fin 1 → Nat :=
  let c1_i32_3354 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5456 : BitVec 32 := Scalar.subi c1_i32_3354 v9
  ![v5456.toNat]
def k0_off1440 (i : grid0.Coords) : Fin 3 → Nat :=
  let c1_i32_3354 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5456 : BitVec 32 := Scalar.subi c1_i32_3354 v9
  let arg1 : BitVec 32 := BitVec.ofNat 32 (i 1).val
  let c2_i32_3350 : BitVec 32 := 2#32
  let v5452 : BitVec 32 := Scalar.muli arg1 c2_i32_3350
  let c1_i32_3351 : BitVec 32 := 1#32
  let v5453 : BitVec 32 := Scalar.addi v5452 c1_i32_3351
  let c256_i32_3352 : BitVec 32 := 256#32
  let v5454 : BitVec 32 := Scalar.muli v5453 c256_i32_3352
  let c98_i32_3353 : BitVec 32 := 98#32
  let v5455 : BitVec 32 := Scalar.addi v5454 c98_i32_3353
  let c8_i32_3357 : BitVec 32 := 8#32
  let v5460 : BitVec 32 := Scalar.muli v5455 c8_i32_3357
  let v5461 : BitVec 32 := v5460
  let c0_i32_3358 : BitVec 32 := 0#32
  ![v5456.toNat, v5461.toNat, 0]
def k0_off1441 (v5458 : BitVec 32) : Fin 2 → Nat :=
  let v5459 : BitVec 32 := v5458
  let c0_i32_3359 : BitVec 32 := 0#32
  ![v5459.toNat, 0]

def k0_chk356 (i : grid0.Coords) (v5458 : BitVec 32) : Prop :=
  (∀ (k0_h2 : k0_cond2 i = 1#1), 8 ∣ (k0_mult711 v5458).toNat) ∧
  (∀ (k0_h2 : k0_cond2 i = 1#1), ∀ a, (k0_off1441 v5458) a + S8x128.size a ≤ S131072x128.size a)
theorem k0_mult711_dvd : ∀ (i : grid0.Coords) (v5458 : BitVec 32) (k0_hw356 : k0_chk356 i v5458), ∀ (k0_h2 : k0_cond2 i = 1#1), 8 ∣ (k0_mult711 v5458).toNat := fun i v5458 k0_hw356 k0_h2 => k0_hw356.1 k0_h2
theorem k0_off1441_inb : ∀ (i : grid0.Coords) (v5458 : BitVec 32) (k0_hw356 : k0_chk356 i v5458), ∀ (k0_h2 : k0_cond2 i = 1#1), ∀ a, (k0_off1441 v5458) a + S8x128.size a ≤ S131072x128.size a := fun i v5458 k0_hw356 k0_h2 => k0_hw356.2 k0_h2

def k0_off1442 (i : grid0.Coords) : Fin 3 → Nat :=
  let c0_3365 : Index := 0#32
  let c0_3366 : Index := 0#32
  let arg1 : BitVec 32 := BitVec.ofNat 32 (i 1).val
  let c2_i32_3360 : BitVec 32 := 2#32
  let v5467 : BitVec 32 := Scalar.muli arg1 c2_i32_3360
  let c1_i32_3361 : BitVec 32 := 1#32
  let v5468 : BitVec 32 := Scalar.addi v5467 c1_i32_3361
  let c256_i32_3362 : BitVec 32 := 256#32
  let v5469 : BitVec 32 := Scalar.muli v5468 c256_i32_3362
  let c99_i32_3363 : BitVec 32 := 99#32
  let v5470 : BitVec 32 := Scalar.addi v5469 c99_i32_3363
  let v5472 : Index := Scalar.indexCast v5470
  ![0, 0, v5472.toNat]
def k0_mult713 (v5473 : BitVec 32) : BitVec 32 :=
  v5473

def k0_mult714 (i : grid0.Coords) : BitVec 32 :=
  let arg1 : BitVec 32 := BitVec.ofNat 32 (i 1).val
  let c2_i32_3360 : BitVec 32 := 2#32
  let v5467 : BitVec 32 := Scalar.muli arg1 c2_i32_3360
  let c1_i32_3361 : BitVec 32 := 1#32
  let v5468 : BitVec 32 := Scalar.addi v5467 c1_i32_3361
  let c256_i32_3362 : BitVec 32 := 256#32
  let v5469 : BitVec 32 := Scalar.muli v5468 c256_i32_3362
  let c99_i32_3363 : BitVec 32 := 99#32
  let v5470 : BitVec 32 := Scalar.addi v5469 c99_i32_3363
  let c8_i32_3367 : BitVec 32 := 8#32
  let v5475 : BitVec 32 := Scalar.muli v5470 c8_i32_3367
  v5475
def k0_off1443 (i : grid0.Coords) : Fin 1 → Nat :=
  let c1_i32_3364 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5471 : BitVec 32 := Scalar.subi c1_i32_3364 v9
  ![v5471.toNat]
def k0_off1444 (i : grid0.Coords) : Fin 3 → Nat :=
  let c1_i32_3364 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5471 : BitVec 32 := Scalar.subi c1_i32_3364 v9
  let arg1 : BitVec 32 := BitVec.ofNat 32 (i 1).val
  let c2_i32_3360 : BitVec 32 := 2#32
  let v5467 : BitVec 32 := Scalar.muli arg1 c2_i32_3360
  let c1_i32_3361 : BitVec 32 := 1#32
  let v5468 : BitVec 32 := Scalar.addi v5467 c1_i32_3361
  let c256_i32_3362 : BitVec 32 := 256#32
  let v5469 : BitVec 32 := Scalar.muli v5468 c256_i32_3362
  let c99_i32_3363 : BitVec 32 := 99#32
  let v5470 : BitVec 32 := Scalar.addi v5469 c99_i32_3363
  let c8_i32_3367 : BitVec 32 := 8#32
  let v5475 : BitVec 32 := Scalar.muli v5470 c8_i32_3367
  let v5476 : BitVec 32 := v5475
  let c0_i32_3368 : BitVec 32 := 0#32
  ![v5471.toNat, v5476.toNat, 0]
def k0_off1445 (v5473 : BitVec 32) : Fin 2 → Nat :=
  let v5474 : BitVec 32 := v5473
  let c0_i32_3369 : BitVec 32 := 0#32
  ![v5474.toNat, 0]

def k0_chk357 (i : grid0.Coords) (v5473 : BitVec 32) : Prop :=
  (∀ (k0_h2 : k0_cond2 i = 1#1), 8 ∣ (k0_mult713 v5473).toNat) ∧
  (∀ (k0_h2 : k0_cond2 i = 1#1), ∀ a, (k0_off1445 v5473) a + S8x128.size a ≤ S131072x128.size a)
theorem k0_mult713_dvd : ∀ (i : grid0.Coords) (v5473 : BitVec 32) (k0_hw357 : k0_chk357 i v5473), ∀ (k0_h2 : k0_cond2 i = 1#1), 8 ∣ (k0_mult713 v5473).toNat := fun i v5473 k0_hw357 k0_h2 => k0_hw357.1 k0_h2
theorem k0_off1445_inb : ∀ (i : grid0.Coords) (v5473 : BitVec 32) (k0_hw357 : k0_chk357 i v5473), ∀ (k0_h2 : k0_cond2 i = 1#1), ∀ a, (k0_off1445 v5473) a + S8x128.size a ≤ S131072x128.size a := fun i v5473 k0_hw357 k0_h2 => k0_hw357.2 k0_h2

def k0_off1446 (i : grid0.Coords) : Fin 3 → Nat :=
  let c0_3375 : Index := 0#32
  let c0_3376 : Index := 0#32
  let arg1 : BitVec 32 := BitVec.ofNat 32 (i 1).val
  let c2_i32_3370 : BitVec 32 := 2#32
  let v5482 : BitVec 32 := Scalar.muli arg1 c2_i32_3370
  let c1_i32_3371 : BitVec 32 := 1#32
  let v5483 : BitVec 32 := Scalar.addi v5482 c1_i32_3371
  let c256_i32_3372 : BitVec 32 := 256#32
  let v5484 : BitVec 32 := Scalar.muli v5483 c256_i32_3372
  let c100_i32_3373 : BitVec 32 := 100#32
  let v5485 : BitVec 32 := Scalar.addi v5484 c100_i32_3373
  let v5487 : Index := Scalar.indexCast v5485
  ![0, 0, v5487.toNat]
def k0_mult715 (v5488 : BitVec 32) : BitVec 32 :=
  v5488

def k0_mult716 (i : grid0.Coords) : BitVec 32 :=
  let arg1 : BitVec 32 := BitVec.ofNat 32 (i 1).val
  let c2_i32_3370 : BitVec 32 := 2#32
  let v5482 : BitVec 32 := Scalar.muli arg1 c2_i32_3370
  let c1_i32_3371 : BitVec 32 := 1#32
  let v5483 : BitVec 32 := Scalar.addi v5482 c1_i32_3371
  let c256_i32_3372 : BitVec 32 := 256#32
  let v5484 : BitVec 32 := Scalar.muli v5483 c256_i32_3372
  let c100_i32_3373 : BitVec 32 := 100#32
  let v5485 : BitVec 32 := Scalar.addi v5484 c100_i32_3373
  let c8_i32_3377 : BitVec 32 := 8#32
  let v5490 : BitVec 32 := Scalar.muli v5485 c8_i32_3377
  v5490
def k0_off1447 (i : grid0.Coords) : Fin 1 → Nat :=
  let c1_i32_3374 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5486 : BitVec 32 := Scalar.subi c1_i32_3374 v9
  ![v5486.toNat]
def k0_off1448 (i : grid0.Coords) : Fin 3 → Nat :=
  let c1_i32_3374 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5486 : BitVec 32 := Scalar.subi c1_i32_3374 v9
  let arg1 : BitVec 32 := BitVec.ofNat 32 (i 1).val
  let c2_i32_3370 : BitVec 32 := 2#32
  let v5482 : BitVec 32 := Scalar.muli arg1 c2_i32_3370
  let c1_i32_3371 : BitVec 32 := 1#32
  let v5483 : BitVec 32 := Scalar.addi v5482 c1_i32_3371
  let c256_i32_3372 : BitVec 32 := 256#32
  let v5484 : BitVec 32 := Scalar.muli v5483 c256_i32_3372
  let c100_i32_3373 : BitVec 32 := 100#32
  let v5485 : BitVec 32 := Scalar.addi v5484 c100_i32_3373
  let c8_i32_3377 : BitVec 32 := 8#32
  let v5490 : BitVec 32 := Scalar.muli v5485 c8_i32_3377
  let v5491 : BitVec 32 := v5490
  let c0_i32_3378 : BitVec 32 := 0#32
  ![v5486.toNat, v5491.toNat, 0]
def k0_off1449 (v5488 : BitVec 32) : Fin 2 → Nat :=
  let v5489 : BitVec 32 := v5488
  let c0_i32_3379 : BitVec 32 := 0#32
  ![v5489.toNat, 0]

def k0_chk358 (i : grid0.Coords) (v5488 : BitVec 32) : Prop :=
  (∀ (k0_h2 : k0_cond2 i = 1#1), 8 ∣ (k0_mult715 v5488).toNat) ∧
  (∀ (k0_h2 : k0_cond2 i = 1#1), ∀ a, (k0_off1449 v5488) a + S8x128.size a ≤ S131072x128.size a)
theorem k0_mult715_dvd : ∀ (i : grid0.Coords) (v5488 : BitVec 32) (k0_hw358 : k0_chk358 i v5488), ∀ (k0_h2 : k0_cond2 i = 1#1), 8 ∣ (k0_mult715 v5488).toNat := fun i v5488 k0_hw358 k0_h2 => k0_hw358.1 k0_h2
theorem k0_off1449_inb : ∀ (i : grid0.Coords) (v5488 : BitVec 32) (k0_hw358 : k0_chk358 i v5488), ∀ (k0_h2 : k0_cond2 i = 1#1), ∀ a, (k0_off1449 v5488) a + S8x128.size a ≤ S131072x128.size a := fun i v5488 k0_hw358 k0_h2 => k0_hw358.2 k0_h2

def k0_off1450 (i : grid0.Coords) : Fin 3 → Nat :=
  let c0_3385 : Index := 0#32
  let c0_3386 : Index := 0#32
  let arg1 : BitVec 32 := BitVec.ofNat 32 (i 1).val
  let c2_i32_3380 : BitVec 32 := 2#32
  let v5497 : BitVec 32 := Scalar.muli arg1 c2_i32_3380
  let c1_i32_3381 : BitVec 32 := 1#32
  let v5498 : BitVec 32 := Scalar.addi v5497 c1_i32_3381
  let c256_i32_3382 : BitVec 32 := 256#32
  let v5499 : BitVec 32 := Scalar.muli v5498 c256_i32_3382
  let c101_i32_3383 : BitVec 32 := 101#32
  let v5500 : BitVec 32 := Scalar.addi v5499 c101_i32_3383
  let v5502 : Index := Scalar.indexCast v5500
  ![0, 0, v5502.toNat]
def k0_mult717 (v5503 : BitVec 32) : BitVec 32 :=
  v5503

def k0_mult718 (i : grid0.Coords) : BitVec 32 :=
  let arg1 : BitVec 32 := BitVec.ofNat 32 (i 1).val
  let c2_i32_3380 : BitVec 32 := 2#32
  let v5497 : BitVec 32 := Scalar.muli arg1 c2_i32_3380
  let c1_i32_3381 : BitVec 32 := 1#32
  let v5498 : BitVec 32 := Scalar.addi v5497 c1_i32_3381
  let c256_i32_3382 : BitVec 32 := 256#32
  let v5499 : BitVec 32 := Scalar.muli v5498 c256_i32_3382
  let c101_i32_3383 : BitVec 32 := 101#32
  let v5500 : BitVec 32 := Scalar.addi v5499 c101_i32_3383
  let c8_i32_3387 : BitVec 32 := 8#32
  let v5505 : BitVec 32 := Scalar.muli v5500 c8_i32_3387
  v5505
def k0_off1451 (i : grid0.Coords) : Fin 1 → Nat :=
  let c1_i32_3384 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5501 : BitVec 32 := Scalar.subi c1_i32_3384 v9
  ![v5501.toNat]
def k0_off1452 (i : grid0.Coords) : Fin 3 → Nat :=
  let c1_i32_3384 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5501 : BitVec 32 := Scalar.subi c1_i32_3384 v9
  let arg1 : BitVec 32 := BitVec.ofNat 32 (i 1).val
  let c2_i32_3380 : BitVec 32 := 2#32
  let v5497 : BitVec 32 := Scalar.muli arg1 c2_i32_3380
  let c1_i32_3381 : BitVec 32 := 1#32
  let v5498 : BitVec 32 := Scalar.addi v5497 c1_i32_3381
  let c256_i32_3382 : BitVec 32 := 256#32
  let v5499 : BitVec 32 := Scalar.muli v5498 c256_i32_3382
  let c101_i32_3383 : BitVec 32 := 101#32
  let v5500 : BitVec 32 := Scalar.addi v5499 c101_i32_3383
  let c8_i32_3387 : BitVec 32 := 8#32
  let v5505 : BitVec 32 := Scalar.muli v5500 c8_i32_3387
  let v5506 : BitVec 32 := v5505
  let c0_i32_3388 : BitVec 32 := 0#32
  ![v5501.toNat, v5506.toNat, 0]
def k0_off1453 (v5503 : BitVec 32) : Fin 2 → Nat :=
  let v5504 : BitVec 32 := v5503
  let c0_i32_3389 : BitVec 32 := 0#32
  ![v5504.toNat, 0]

def k0_chk359 (i : grid0.Coords) (v5503 : BitVec 32) : Prop :=
  (∀ (k0_h2 : k0_cond2 i = 1#1), 8 ∣ (k0_mult717 v5503).toNat) ∧
  (∀ (k0_h2 : k0_cond2 i = 1#1), ∀ a, (k0_off1453 v5503) a + S8x128.size a ≤ S131072x128.size a)
theorem k0_mult717_dvd : ∀ (i : grid0.Coords) (v5503 : BitVec 32) (k0_hw359 : k0_chk359 i v5503), ∀ (k0_h2 : k0_cond2 i = 1#1), 8 ∣ (k0_mult717 v5503).toNat := fun i v5503 k0_hw359 k0_h2 => k0_hw359.1 k0_h2
theorem k0_off1453_inb : ∀ (i : grid0.Coords) (v5503 : BitVec 32) (k0_hw359 : k0_chk359 i v5503), ∀ (k0_h2 : k0_cond2 i = 1#1), ∀ a, (k0_off1453 v5503) a + S8x128.size a ≤ S131072x128.size a := fun i v5503 k0_hw359 k0_h2 => k0_hw359.2 k0_h2

def k0_off1454 (i : grid0.Coords) : Fin 3 → Nat :=
  let c0_3395 : Index := 0#32
  let c0_3396 : Index := 0#32
  let arg1 : BitVec 32 := BitVec.ofNat 32 (i 1).val
  let c2_i32_3390 : BitVec 32 := 2#32
  let v5512 : BitVec 32 := Scalar.muli arg1 c2_i32_3390
  let c1_i32_3391 : BitVec 32 := 1#32
  let v5513 : BitVec 32 := Scalar.addi v5512 c1_i32_3391
  let c256_i32_3392 : BitVec 32 := 256#32
  let v5514 : BitVec 32 := Scalar.muli v5513 c256_i32_3392
  let c102_i32_3393 : BitVec 32 := 102#32
  let v5515 : BitVec 32 := Scalar.addi v5514 c102_i32_3393
  let v5517 : Index := Scalar.indexCast v5515
  ![0, 0, v5517.toNat]
def k0_mult719 (v5518 : BitVec 32) : BitVec 32 :=
  v5518

def k0_mult720 (i : grid0.Coords) : BitVec 32 :=
  let arg1 : BitVec 32 := BitVec.ofNat 32 (i 1).val
  let c2_i32_3390 : BitVec 32 := 2#32
  let v5512 : BitVec 32 := Scalar.muli arg1 c2_i32_3390
  let c1_i32_3391 : BitVec 32 := 1#32
  let v5513 : BitVec 32 := Scalar.addi v5512 c1_i32_3391
  let c256_i32_3392 : BitVec 32 := 256#32
  let v5514 : BitVec 32 := Scalar.muli v5513 c256_i32_3392
  let c102_i32_3393 : BitVec 32 := 102#32
  let v5515 : BitVec 32 := Scalar.addi v5514 c102_i32_3393
  let c8_i32_3397 : BitVec 32 := 8#32
  let v5520 : BitVec 32 := Scalar.muli v5515 c8_i32_3397
  v5520
def k0_off1455 (i : grid0.Coords) : Fin 1 → Nat :=
  let c1_i32_3394 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5516 : BitVec 32 := Scalar.subi c1_i32_3394 v9
  ![v5516.toNat]
def k0_off1456 (i : grid0.Coords) : Fin 3 → Nat :=
  let c1_i32_3394 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5516 : BitVec 32 := Scalar.subi c1_i32_3394 v9
  let arg1 : BitVec 32 := BitVec.ofNat 32 (i 1).val
  let c2_i32_3390 : BitVec 32 := 2#32
  let v5512 : BitVec 32 := Scalar.muli arg1 c2_i32_3390
  let c1_i32_3391 : BitVec 32 := 1#32
  let v5513 : BitVec 32 := Scalar.addi v5512 c1_i32_3391
  let c256_i32_3392 : BitVec 32 := 256#32
  let v5514 : BitVec 32 := Scalar.muli v5513 c256_i32_3392
  let c102_i32_3393 : BitVec 32 := 102#32
  let v5515 : BitVec 32 := Scalar.addi v5514 c102_i32_3393
  let c8_i32_3397 : BitVec 32 := 8#32
  let v5520 : BitVec 32 := Scalar.muli v5515 c8_i32_3397
  let v5521 : BitVec 32 := v5520
  let c0_i32_3398 : BitVec 32 := 0#32
  ![v5516.toNat, v5521.toNat, 0]
def k0_off1457 (v5518 : BitVec 32) : Fin 2 → Nat :=
  let v5519 : BitVec 32 := v5518
  let c0_i32_3399 : BitVec 32 := 0#32
  ![v5519.toNat, 0]

def k0_chk360 (i : grid0.Coords) (v5518 : BitVec 32) : Prop :=
  (∀ (k0_h2 : k0_cond2 i = 1#1), 8 ∣ (k0_mult719 v5518).toNat) ∧
  (∀ (k0_h2 : k0_cond2 i = 1#1), ∀ a, (k0_off1457 v5518) a + S8x128.size a ≤ S131072x128.size a)
theorem k0_mult719_dvd : ∀ (i : grid0.Coords) (v5518 : BitVec 32) (k0_hw360 : k0_chk360 i v5518), ∀ (k0_h2 : k0_cond2 i = 1#1), 8 ∣ (k0_mult719 v5518).toNat := fun i v5518 k0_hw360 k0_h2 => k0_hw360.1 k0_h2
theorem k0_off1457_inb : ∀ (i : grid0.Coords) (v5518 : BitVec 32) (k0_hw360 : k0_chk360 i v5518), ∀ (k0_h2 : k0_cond2 i = 1#1), ∀ a, (k0_off1457 v5518) a + S8x128.size a ≤ S131072x128.size a := fun i v5518 k0_hw360 k0_h2 => k0_hw360.2 k0_h2

def k0_off1458 (i : grid0.Coords) : Fin 3 → Nat :=
  let c0_3405 : Index := 0#32
  let c0_3406 : Index := 0#32
  let arg1 : BitVec 32 := BitVec.ofNat 32 (i 1).val
  let c2_i32_3400 : BitVec 32 := 2#32
  let v5527 : BitVec 32 := Scalar.muli arg1 c2_i32_3400
  let c1_i32_3401 : BitVec 32 := 1#32
  let v5528 : BitVec 32 := Scalar.addi v5527 c1_i32_3401
  let c256_i32_3402 : BitVec 32 := 256#32
  let v5529 : BitVec 32 := Scalar.muli v5528 c256_i32_3402
  let c103_i32_3403 : BitVec 32 := 103#32
  let v5530 : BitVec 32 := Scalar.addi v5529 c103_i32_3403
  let v5532 : Index := Scalar.indexCast v5530
  ![0, 0, v5532.toNat]
def k0_mult721 (v5533 : BitVec 32) : BitVec 32 :=
  v5533

def k0_mult722 (i : grid0.Coords) : BitVec 32 :=
  let arg1 : BitVec 32 := BitVec.ofNat 32 (i 1).val
  let c2_i32_3400 : BitVec 32 := 2#32
  let v5527 : BitVec 32 := Scalar.muli arg1 c2_i32_3400
  let c1_i32_3401 : BitVec 32 := 1#32
  let v5528 : BitVec 32 := Scalar.addi v5527 c1_i32_3401
  let c256_i32_3402 : BitVec 32 := 256#32
  let v5529 : BitVec 32 := Scalar.muli v5528 c256_i32_3402
  let c103_i32_3403 : BitVec 32 := 103#32
  let v5530 : BitVec 32 := Scalar.addi v5529 c103_i32_3403
  let c8_i32_3407 : BitVec 32 := 8#32
  let v5535 : BitVec 32 := Scalar.muli v5530 c8_i32_3407
  v5535
def k0_off1459 (i : grid0.Coords) : Fin 1 → Nat :=
  let c1_i32_3404 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5531 : BitVec 32 := Scalar.subi c1_i32_3404 v9
  ![v5531.toNat]
def k0_off1460 (i : grid0.Coords) : Fin 3 → Nat :=
  let c1_i32_3404 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5531 : BitVec 32 := Scalar.subi c1_i32_3404 v9
  let arg1 : BitVec 32 := BitVec.ofNat 32 (i 1).val
  let c2_i32_3400 : BitVec 32 := 2#32
  let v5527 : BitVec 32 := Scalar.muli arg1 c2_i32_3400
  let c1_i32_3401 : BitVec 32 := 1#32
  let v5528 : BitVec 32 := Scalar.addi v5527 c1_i32_3401
  let c256_i32_3402 : BitVec 32 := 256#32
  let v5529 : BitVec 32 := Scalar.muli v5528 c256_i32_3402
  let c103_i32_3403 : BitVec 32 := 103#32
  let v5530 : BitVec 32 := Scalar.addi v5529 c103_i32_3403
  let c8_i32_3407 : BitVec 32 := 8#32
  let v5535 : BitVec 32 := Scalar.muli v5530 c8_i32_3407
  let v5536 : BitVec 32 := v5535
  let c0_i32_3408 : BitVec 32 := 0#32
  ![v5531.toNat, v5536.toNat, 0]
def k0_off1461 (v5533 : BitVec 32) : Fin 2 → Nat :=
  let v5534 : BitVec 32 := v5533
  let c0_i32_3409 : BitVec 32 := 0#32
  ![v5534.toNat, 0]

def k0_chk361 (i : grid0.Coords) (v5533 : BitVec 32) : Prop :=
  (∀ (k0_h2 : k0_cond2 i = 1#1), 8 ∣ (k0_mult721 v5533).toNat) ∧
  (∀ (k0_h2 : k0_cond2 i = 1#1), ∀ a, (k0_off1461 v5533) a + S8x128.size a ≤ S131072x128.size a)
theorem k0_mult721_dvd : ∀ (i : grid0.Coords) (v5533 : BitVec 32) (k0_hw361 : k0_chk361 i v5533), ∀ (k0_h2 : k0_cond2 i = 1#1), 8 ∣ (k0_mult721 v5533).toNat := fun i v5533 k0_hw361 k0_h2 => k0_hw361.1 k0_h2
theorem k0_off1461_inb : ∀ (i : grid0.Coords) (v5533 : BitVec 32) (k0_hw361 : k0_chk361 i v5533), ∀ (k0_h2 : k0_cond2 i = 1#1), ∀ a, (k0_off1461 v5533) a + S8x128.size a ≤ S131072x128.size a := fun i v5533 k0_hw361 k0_h2 => k0_hw361.2 k0_h2

def k0_off1462 (i : grid0.Coords) : Fin 3 → Nat :=
  let c0_3415 : Index := 0#32
  let c0_3416 : Index := 0#32
  let arg1 : BitVec 32 := BitVec.ofNat 32 (i 1).val
  let c2_i32_3410 : BitVec 32 := 2#32
  let v5542 : BitVec 32 := Scalar.muli arg1 c2_i32_3410
  let c1_i32_3411 : BitVec 32 := 1#32
  let v5543 : BitVec 32 := Scalar.addi v5542 c1_i32_3411
  let c256_i32_3412 : BitVec 32 := 256#32
  let v5544 : BitVec 32 := Scalar.muli v5543 c256_i32_3412
  let c104_i32_3413 : BitVec 32 := 104#32
  let v5545 : BitVec 32 := Scalar.addi v5544 c104_i32_3413
  let v5547 : Index := Scalar.indexCast v5545
  ![0, 0, v5547.toNat]
def k0_mult723 (v5548 : BitVec 32) : BitVec 32 :=
  v5548

def k0_mult724 (i : grid0.Coords) : BitVec 32 :=
  let arg1 : BitVec 32 := BitVec.ofNat 32 (i 1).val
  let c2_i32_3410 : BitVec 32 := 2#32
  let v5542 : BitVec 32 := Scalar.muli arg1 c2_i32_3410
  let c1_i32_3411 : BitVec 32 := 1#32
  let v5543 : BitVec 32 := Scalar.addi v5542 c1_i32_3411
  let c256_i32_3412 : BitVec 32 := 256#32
  let v5544 : BitVec 32 := Scalar.muli v5543 c256_i32_3412
  let c104_i32_3413 : BitVec 32 := 104#32
  let v5545 : BitVec 32 := Scalar.addi v5544 c104_i32_3413
  let c8_i32_3417 : BitVec 32 := 8#32
  let v5550 : BitVec 32 := Scalar.muli v5545 c8_i32_3417
  v5550
def k0_off1463 (i : grid0.Coords) : Fin 1 → Nat :=
  let c1_i32_3414 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5546 : BitVec 32 := Scalar.subi c1_i32_3414 v9
  ![v5546.toNat]
def k0_off1464 (i : grid0.Coords) : Fin 3 → Nat :=
  let c1_i32_3414 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5546 : BitVec 32 := Scalar.subi c1_i32_3414 v9
  let arg1 : BitVec 32 := BitVec.ofNat 32 (i 1).val
  let c2_i32_3410 : BitVec 32 := 2#32
  let v5542 : BitVec 32 := Scalar.muli arg1 c2_i32_3410
  let c1_i32_3411 : BitVec 32 := 1#32
  let v5543 : BitVec 32 := Scalar.addi v5542 c1_i32_3411
  let c256_i32_3412 : BitVec 32 := 256#32
  let v5544 : BitVec 32 := Scalar.muli v5543 c256_i32_3412
  let c104_i32_3413 : BitVec 32 := 104#32
  let v5545 : BitVec 32 := Scalar.addi v5544 c104_i32_3413
  let c8_i32_3417 : BitVec 32 := 8#32
  let v5550 : BitVec 32 := Scalar.muli v5545 c8_i32_3417
  let v5551 : BitVec 32 := v5550
  let c0_i32_3418 : BitVec 32 := 0#32
  ![v5546.toNat, v5551.toNat, 0]
def k0_off1465 (v5548 : BitVec 32) : Fin 2 → Nat :=
  let v5549 : BitVec 32 := v5548
  let c0_i32_3419 : BitVec 32 := 0#32
  ![v5549.toNat, 0]

def k0_chk362 (i : grid0.Coords) (v5548 : BitVec 32) : Prop :=
  (∀ (k0_h2 : k0_cond2 i = 1#1), 8 ∣ (k0_mult723 v5548).toNat) ∧
  (∀ (k0_h2 : k0_cond2 i = 1#1), ∀ a, (k0_off1465 v5548) a + S8x128.size a ≤ S131072x128.size a)
theorem k0_mult723_dvd : ∀ (i : grid0.Coords) (v5548 : BitVec 32) (k0_hw362 : k0_chk362 i v5548), ∀ (k0_h2 : k0_cond2 i = 1#1), 8 ∣ (k0_mult723 v5548).toNat := fun i v5548 k0_hw362 k0_h2 => k0_hw362.1 k0_h2
theorem k0_off1465_inb : ∀ (i : grid0.Coords) (v5548 : BitVec 32) (k0_hw362 : k0_chk362 i v5548), ∀ (k0_h2 : k0_cond2 i = 1#1), ∀ a, (k0_off1465 v5548) a + S8x128.size a ≤ S131072x128.size a := fun i v5548 k0_hw362 k0_h2 => k0_hw362.2 k0_h2

def k0_off1466 (i : grid0.Coords) : Fin 3 → Nat :=
  let c0_3425 : Index := 0#32
  let c0_3426 : Index := 0#32
  let arg1 : BitVec 32 := BitVec.ofNat 32 (i 1).val
  let c2_i32_3420 : BitVec 32 := 2#32
  let v5557 : BitVec 32 := Scalar.muli arg1 c2_i32_3420
  let c1_i32_3421 : BitVec 32 := 1#32
  let v5558 : BitVec 32 := Scalar.addi v5557 c1_i32_3421
  let c256_i32_3422 : BitVec 32 := 256#32
  let v5559 : BitVec 32 := Scalar.muli v5558 c256_i32_3422
  let c105_i32_3423 : BitVec 32 := 105#32
  let v5560 : BitVec 32 := Scalar.addi v5559 c105_i32_3423
  let v5562 : Index := Scalar.indexCast v5560
  ![0, 0, v5562.toNat]
def k0_mult725 (v5563 : BitVec 32) : BitVec 32 :=
  v5563

def k0_mult726 (i : grid0.Coords) : BitVec 32 :=
  let arg1 : BitVec 32 := BitVec.ofNat 32 (i 1).val
  let c2_i32_3420 : BitVec 32 := 2#32
  let v5557 : BitVec 32 := Scalar.muli arg1 c2_i32_3420
  let c1_i32_3421 : BitVec 32 := 1#32
  let v5558 : BitVec 32 := Scalar.addi v5557 c1_i32_3421
  let c256_i32_3422 : BitVec 32 := 256#32
  let v5559 : BitVec 32 := Scalar.muli v5558 c256_i32_3422
  let c105_i32_3423 : BitVec 32 := 105#32
  let v5560 : BitVec 32 := Scalar.addi v5559 c105_i32_3423
  let c8_i32_3427 : BitVec 32 := 8#32
  let v5565 : BitVec 32 := Scalar.muli v5560 c8_i32_3427
  v5565
def k0_off1467 (i : grid0.Coords) : Fin 1 → Nat :=
  let c1_i32_3424 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5561 : BitVec 32 := Scalar.subi c1_i32_3424 v9
  ![v5561.toNat]
def k0_off1468 (i : grid0.Coords) : Fin 3 → Nat :=
  let c1_i32_3424 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5561 : BitVec 32 := Scalar.subi c1_i32_3424 v9
  let arg1 : BitVec 32 := BitVec.ofNat 32 (i 1).val
  let c2_i32_3420 : BitVec 32 := 2#32
  let v5557 : BitVec 32 := Scalar.muli arg1 c2_i32_3420
  let c1_i32_3421 : BitVec 32 := 1#32
  let v5558 : BitVec 32 := Scalar.addi v5557 c1_i32_3421
  let c256_i32_3422 : BitVec 32 := 256#32
  let v5559 : BitVec 32 := Scalar.muli v5558 c256_i32_3422
  let c105_i32_3423 : BitVec 32 := 105#32
  let v5560 : BitVec 32 := Scalar.addi v5559 c105_i32_3423
  let c8_i32_3427 : BitVec 32 := 8#32
  let v5565 : BitVec 32 := Scalar.muli v5560 c8_i32_3427
  let v5566 : BitVec 32 := v5565
  let c0_i32_3428 : BitVec 32 := 0#32
  ![v5561.toNat, v5566.toNat, 0]
def k0_off1469 (v5563 : BitVec 32) : Fin 2 → Nat :=
  let v5564 : BitVec 32 := v5563
  let c0_i32_3429 : BitVec 32 := 0#32
  ![v5564.toNat, 0]

def k0_chk363 (i : grid0.Coords) (v5563 : BitVec 32) : Prop :=
  (∀ (k0_h2 : k0_cond2 i = 1#1), 8 ∣ (k0_mult725 v5563).toNat) ∧
  (∀ (k0_h2 : k0_cond2 i = 1#1), ∀ a, (k0_off1469 v5563) a + S8x128.size a ≤ S131072x128.size a)
theorem k0_mult725_dvd : ∀ (i : grid0.Coords) (v5563 : BitVec 32) (k0_hw363 : k0_chk363 i v5563), ∀ (k0_h2 : k0_cond2 i = 1#1), 8 ∣ (k0_mult725 v5563).toNat := fun i v5563 k0_hw363 k0_h2 => k0_hw363.1 k0_h2
theorem k0_off1469_inb : ∀ (i : grid0.Coords) (v5563 : BitVec 32) (k0_hw363 : k0_chk363 i v5563), ∀ (k0_h2 : k0_cond2 i = 1#1), ∀ a, (k0_off1469 v5563) a + S8x128.size a ≤ S131072x128.size a := fun i v5563 k0_hw363 k0_h2 => k0_hw363.2 k0_h2

def k0_off1470 (i : grid0.Coords) : Fin 3 → Nat :=
  let c0_3435 : Index := 0#32
  let c0_3436 : Index := 0#32
  let arg1 : BitVec 32 := BitVec.ofNat 32 (i 1).val
  let c2_i32_3430 : BitVec 32 := 2#32
  let v5572 : BitVec 32 := Scalar.muli arg1 c2_i32_3430
  let c1_i32_3431 : BitVec 32 := 1#32
  let v5573 : BitVec 32 := Scalar.addi v5572 c1_i32_3431
  let c256_i32_3432 : BitVec 32 := 256#32
  let v5574 : BitVec 32 := Scalar.muli v5573 c256_i32_3432
  let c106_i32_3433 : BitVec 32 := 106#32
  let v5575 : BitVec 32 := Scalar.addi v5574 c106_i32_3433
  let v5577 : Index := Scalar.indexCast v5575
  ![0, 0, v5577.toNat]
def k0_mult727 (v5578 : BitVec 32) : BitVec 32 :=
  v5578

def k0_mult728 (i : grid0.Coords) : BitVec 32 :=
  let arg1 : BitVec 32 := BitVec.ofNat 32 (i 1).val
  let c2_i32_3430 : BitVec 32 := 2#32
  let v5572 : BitVec 32 := Scalar.muli arg1 c2_i32_3430
  let c1_i32_3431 : BitVec 32 := 1#32
  let v5573 : BitVec 32 := Scalar.addi v5572 c1_i32_3431
  let c256_i32_3432 : BitVec 32 := 256#32
  let v5574 : BitVec 32 := Scalar.muli v5573 c256_i32_3432
  let c106_i32_3433 : BitVec 32 := 106#32
  let v5575 : BitVec 32 := Scalar.addi v5574 c106_i32_3433
  let c8_i32_3437 : BitVec 32 := 8#32
  let v5580 : BitVec 32 := Scalar.muli v5575 c8_i32_3437
  v5580
def k0_off1471 (i : grid0.Coords) : Fin 1 → Nat :=
  let c1_i32_3434 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5576 : BitVec 32 := Scalar.subi c1_i32_3434 v9
  ![v5576.toNat]
def k0_off1472 (i : grid0.Coords) : Fin 3 → Nat :=
  let c1_i32_3434 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5576 : BitVec 32 := Scalar.subi c1_i32_3434 v9
  let arg1 : BitVec 32 := BitVec.ofNat 32 (i 1).val
  let c2_i32_3430 : BitVec 32 := 2#32
  let v5572 : BitVec 32 := Scalar.muli arg1 c2_i32_3430
  let c1_i32_3431 : BitVec 32 := 1#32
  let v5573 : BitVec 32 := Scalar.addi v5572 c1_i32_3431
  let c256_i32_3432 : BitVec 32 := 256#32
  let v5574 : BitVec 32 := Scalar.muli v5573 c256_i32_3432
  let c106_i32_3433 : BitVec 32 := 106#32
  let v5575 : BitVec 32 := Scalar.addi v5574 c106_i32_3433
  let c8_i32_3437 : BitVec 32 := 8#32
  let v5580 : BitVec 32 := Scalar.muli v5575 c8_i32_3437
  let v5581 : BitVec 32 := v5580
  let c0_i32_3438 : BitVec 32 := 0#32
  ![v5576.toNat, v5581.toNat, 0]
def k0_off1473 (v5578 : BitVec 32) : Fin 2 → Nat :=
  let v5579 : BitVec 32 := v5578
  let c0_i32_3439 : BitVec 32 := 0#32
  ![v5579.toNat, 0]

def k0_chk364 (i : grid0.Coords) (v5578 : BitVec 32) : Prop :=
  (∀ (k0_h2 : k0_cond2 i = 1#1), 8 ∣ (k0_mult727 v5578).toNat) ∧
  (∀ (k0_h2 : k0_cond2 i = 1#1), ∀ a, (k0_off1473 v5578) a + S8x128.size a ≤ S131072x128.size a)
theorem k0_mult727_dvd : ∀ (i : grid0.Coords) (v5578 : BitVec 32) (k0_hw364 : k0_chk364 i v5578), ∀ (k0_h2 : k0_cond2 i = 1#1), 8 ∣ (k0_mult727 v5578).toNat := fun i v5578 k0_hw364 k0_h2 => k0_hw364.1 k0_h2
theorem k0_off1473_inb : ∀ (i : grid0.Coords) (v5578 : BitVec 32) (k0_hw364 : k0_chk364 i v5578), ∀ (k0_h2 : k0_cond2 i = 1#1), ∀ a, (k0_off1473 v5578) a + S8x128.size a ≤ S131072x128.size a := fun i v5578 k0_hw364 k0_h2 => k0_hw364.2 k0_h2

def k0_off1474 (i : grid0.Coords) : Fin 3 → Nat :=
  let c0_3445 : Index := 0#32
  let c0_3446 : Index := 0#32
  let arg1 : BitVec 32 := BitVec.ofNat 32 (i 1).val
  let c2_i32_3440 : BitVec 32 := 2#32
  let v5587 : BitVec 32 := Scalar.muli arg1 c2_i32_3440
  let c1_i32_3441 : BitVec 32 := 1#32
  let v5588 : BitVec 32 := Scalar.addi v5587 c1_i32_3441
  let c256_i32_3442 : BitVec 32 := 256#32
  let v5589 : BitVec 32 := Scalar.muli v5588 c256_i32_3442
  let c107_i32_3443 : BitVec 32 := 107#32
  let v5590 : BitVec 32 := Scalar.addi v5589 c107_i32_3443
  let v5592 : Index := Scalar.indexCast v5590
  ![0, 0, v5592.toNat]
def k0_mult729 (v5593 : BitVec 32) : BitVec 32 :=
  v5593

def k0_mult730 (i : grid0.Coords) : BitVec 32 :=
  let arg1 : BitVec 32 := BitVec.ofNat 32 (i 1).val
  let c2_i32_3440 : BitVec 32 := 2#32
  let v5587 : BitVec 32 := Scalar.muli arg1 c2_i32_3440
  let c1_i32_3441 : BitVec 32 := 1#32
  let v5588 : BitVec 32 := Scalar.addi v5587 c1_i32_3441
  let c256_i32_3442 : BitVec 32 := 256#32
  let v5589 : BitVec 32 := Scalar.muli v5588 c256_i32_3442
  let c107_i32_3443 : BitVec 32 := 107#32
  let v5590 : BitVec 32 := Scalar.addi v5589 c107_i32_3443
  let c8_i32_3447 : BitVec 32 := 8#32
  let v5595 : BitVec 32 := Scalar.muli v5590 c8_i32_3447
  v5595
def k0_off1475 (i : grid0.Coords) : Fin 1 → Nat :=
  let c1_i32_3444 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5591 : BitVec 32 := Scalar.subi c1_i32_3444 v9
  ![v5591.toNat]
def k0_off1476 (i : grid0.Coords) : Fin 3 → Nat :=
  let c1_i32_3444 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5591 : BitVec 32 := Scalar.subi c1_i32_3444 v9
  let arg1 : BitVec 32 := BitVec.ofNat 32 (i 1).val
  let c2_i32_3440 : BitVec 32 := 2#32
  let v5587 : BitVec 32 := Scalar.muli arg1 c2_i32_3440
  let c1_i32_3441 : BitVec 32 := 1#32
  let v5588 : BitVec 32 := Scalar.addi v5587 c1_i32_3441
  let c256_i32_3442 : BitVec 32 := 256#32
  let v5589 : BitVec 32 := Scalar.muli v5588 c256_i32_3442
  let c107_i32_3443 : BitVec 32 := 107#32
  let v5590 : BitVec 32 := Scalar.addi v5589 c107_i32_3443
  let c8_i32_3447 : BitVec 32 := 8#32
  let v5595 : BitVec 32 := Scalar.muli v5590 c8_i32_3447
  let v5596 : BitVec 32 := v5595
  let c0_i32_3448 : BitVec 32 := 0#32
  ![v5591.toNat, v5596.toNat, 0]
def k0_off1477 (v5593 : BitVec 32) : Fin 2 → Nat :=
  let v5594 : BitVec 32 := v5593
  let c0_i32_3449 : BitVec 32 := 0#32
  ![v5594.toNat, 0]

def k0_chk365 (i : grid0.Coords) (v5593 : BitVec 32) : Prop :=
  (∀ (k0_h2 : k0_cond2 i = 1#1), 8 ∣ (k0_mult729 v5593).toNat) ∧
  (∀ (k0_h2 : k0_cond2 i = 1#1), ∀ a, (k0_off1477 v5593) a + S8x128.size a ≤ S131072x128.size a)
theorem k0_mult729_dvd : ∀ (i : grid0.Coords) (v5593 : BitVec 32) (k0_hw365 : k0_chk365 i v5593), ∀ (k0_h2 : k0_cond2 i = 1#1), 8 ∣ (k0_mult729 v5593).toNat := fun i v5593 k0_hw365 k0_h2 => k0_hw365.1 k0_h2
theorem k0_off1477_inb : ∀ (i : grid0.Coords) (v5593 : BitVec 32) (k0_hw365 : k0_chk365 i v5593), ∀ (k0_h2 : k0_cond2 i = 1#1), ∀ a, (k0_off1477 v5593) a + S8x128.size a ≤ S131072x128.size a := fun i v5593 k0_hw365 k0_h2 => k0_hw365.2 k0_h2

def k0_off1478 (i : grid0.Coords) : Fin 3 → Nat :=
  let c0_3455 : Index := 0#32
  let c0_3456 : Index := 0#32
  let arg1 : BitVec 32 := BitVec.ofNat 32 (i 1).val
  let c2_i32_3450 : BitVec 32 := 2#32
  let v5602 : BitVec 32 := Scalar.muli arg1 c2_i32_3450
  let c1_i32_3451 : BitVec 32 := 1#32
  let v5603 : BitVec 32 := Scalar.addi v5602 c1_i32_3451
  let c256_i32_3452 : BitVec 32 := 256#32
  let v5604 : BitVec 32 := Scalar.muli v5603 c256_i32_3452
  let c108_i32_3453 : BitVec 32 := 108#32
  let v5605 : BitVec 32 := Scalar.addi v5604 c108_i32_3453
  let v5607 : Index := Scalar.indexCast v5605
  ![0, 0, v5607.toNat]
def k0_mult731 (v5608 : BitVec 32) : BitVec 32 :=
  v5608

def k0_mult732 (i : grid0.Coords) : BitVec 32 :=
  let arg1 : BitVec 32 := BitVec.ofNat 32 (i 1).val
  let c2_i32_3450 : BitVec 32 := 2#32
  let v5602 : BitVec 32 := Scalar.muli arg1 c2_i32_3450
  let c1_i32_3451 : BitVec 32 := 1#32
  let v5603 : BitVec 32 := Scalar.addi v5602 c1_i32_3451
  let c256_i32_3452 : BitVec 32 := 256#32
  let v5604 : BitVec 32 := Scalar.muli v5603 c256_i32_3452
  let c108_i32_3453 : BitVec 32 := 108#32
  let v5605 : BitVec 32 := Scalar.addi v5604 c108_i32_3453
  let c8_i32_3457 : BitVec 32 := 8#32
  let v5610 : BitVec 32 := Scalar.muli v5605 c8_i32_3457
  v5610
def k0_off1479 (i : grid0.Coords) : Fin 1 → Nat :=
  let c1_i32_3454 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5606 : BitVec 32 := Scalar.subi c1_i32_3454 v9
  ![v5606.toNat]
def k0_off1480 (i : grid0.Coords) : Fin 3 → Nat :=
  let c1_i32_3454 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5606 : BitVec 32 := Scalar.subi c1_i32_3454 v9
  let arg1 : BitVec 32 := BitVec.ofNat 32 (i 1).val
  let c2_i32_3450 : BitVec 32 := 2#32
  let v5602 : BitVec 32 := Scalar.muli arg1 c2_i32_3450
  let c1_i32_3451 : BitVec 32 := 1#32
  let v5603 : BitVec 32 := Scalar.addi v5602 c1_i32_3451
  let c256_i32_3452 : BitVec 32 := 256#32
  let v5604 : BitVec 32 := Scalar.muli v5603 c256_i32_3452
  let c108_i32_3453 : BitVec 32 := 108#32
  let v5605 : BitVec 32 := Scalar.addi v5604 c108_i32_3453
  let c8_i32_3457 : BitVec 32 := 8#32
  let v5610 : BitVec 32 := Scalar.muli v5605 c8_i32_3457
  let v5611 : BitVec 32 := v5610
  let c0_i32_3458 : BitVec 32 := 0#32
  ![v5606.toNat, v5611.toNat, 0]
def k0_off1481 (v5608 : BitVec 32) : Fin 2 → Nat :=
  let v5609 : BitVec 32 := v5608
  let c0_i32_3459 : BitVec 32 := 0#32
  ![v5609.toNat, 0]

def k0_chk366 (i : grid0.Coords) (v5608 : BitVec 32) : Prop :=
  (∀ (k0_h2 : k0_cond2 i = 1#1), 8 ∣ (k0_mult731 v5608).toNat) ∧
  (∀ (k0_h2 : k0_cond2 i = 1#1), ∀ a, (k0_off1481 v5608) a + S8x128.size a ≤ S131072x128.size a)
theorem k0_mult731_dvd : ∀ (i : grid0.Coords) (v5608 : BitVec 32) (k0_hw366 : k0_chk366 i v5608), ∀ (k0_h2 : k0_cond2 i = 1#1), 8 ∣ (k0_mult731 v5608).toNat := fun i v5608 k0_hw366 k0_h2 => k0_hw366.1 k0_h2
theorem k0_off1481_inb : ∀ (i : grid0.Coords) (v5608 : BitVec 32) (k0_hw366 : k0_chk366 i v5608), ∀ (k0_h2 : k0_cond2 i = 1#1), ∀ a, (k0_off1481 v5608) a + S8x128.size a ≤ S131072x128.size a := fun i v5608 k0_hw366 k0_h2 => k0_hw366.2 k0_h2

def k0_off1482 (i : grid0.Coords) : Fin 3 → Nat :=
  let c0_3465 : Index := 0#32
  let c0_3466 : Index := 0#32
  let arg1 : BitVec 32 := BitVec.ofNat 32 (i 1).val
  let c2_i32_3460 : BitVec 32 := 2#32
  let v5617 : BitVec 32 := Scalar.muli arg1 c2_i32_3460
  let c1_i32_3461 : BitVec 32 := 1#32
  let v5618 : BitVec 32 := Scalar.addi v5617 c1_i32_3461
  let c256_i32_3462 : BitVec 32 := 256#32
  let v5619 : BitVec 32 := Scalar.muli v5618 c256_i32_3462
  let c109_i32_3463 : BitVec 32 := 109#32
  let v5620 : BitVec 32 := Scalar.addi v5619 c109_i32_3463
  let v5622 : Index := Scalar.indexCast v5620
  ![0, 0, v5622.toNat]
def k0_mult733 (v5623 : BitVec 32) : BitVec 32 :=
  v5623

def k0_mult734 (i : grid0.Coords) : BitVec 32 :=
  let arg1 : BitVec 32 := BitVec.ofNat 32 (i 1).val
  let c2_i32_3460 : BitVec 32 := 2#32
  let v5617 : BitVec 32 := Scalar.muli arg1 c2_i32_3460
  let c1_i32_3461 : BitVec 32 := 1#32
  let v5618 : BitVec 32 := Scalar.addi v5617 c1_i32_3461
  let c256_i32_3462 : BitVec 32 := 256#32
  let v5619 : BitVec 32 := Scalar.muli v5618 c256_i32_3462
  let c109_i32_3463 : BitVec 32 := 109#32
  let v5620 : BitVec 32 := Scalar.addi v5619 c109_i32_3463
  let c8_i32_3467 : BitVec 32 := 8#32
  let v5625 : BitVec 32 := Scalar.muli v5620 c8_i32_3467
  v5625
def k0_off1483 (i : grid0.Coords) : Fin 1 → Nat :=
  let c1_i32_3464 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5621 : BitVec 32 := Scalar.subi c1_i32_3464 v9
  ![v5621.toNat]
def k0_off1484 (i : grid0.Coords) : Fin 3 → Nat :=
  let c1_i32_3464 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5621 : BitVec 32 := Scalar.subi c1_i32_3464 v9
  let arg1 : BitVec 32 := BitVec.ofNat 32 (i 1).val
  let c2_i32_3460 : BitVec 32 := 2#32
  let v5617 : BitVec 32 := Scalar.muli arg1 c2_i32_3460
  let c1_i32_3461 : BitVec 32 := 1#32
  let v5618 : BitVec 32 := Scalar.addi v5617 c1_i32_3461
  let c256_i32_3462 : BitVec 32 := 256#32
  let v5619 : BitVec 32 := Scalar.muli v5618 c256_i32_3462
  let c109_i32_3463 : BitVec 32 := 109#32
  let v5620 : BitVec 32 := Scalar.addi v5619 c109_i32_3463
  let c8_i32_3467 : BitVec 32 := 8#32
  let v5625 : BitVec 32 := Scalar.muli v5620 c8_i32_3467
  let v5626 : BitVec 32 := v5625
  let c0_i32_3468 : BitVec 32 := 0#32
  ![v5621.toNat, v5626.toNat, 0]
def k0_off1485 (v5623 : BitVec 32) : Fin 2 → Nat :=
  let v5624 : BitVec 32 := v5623
  let c0_i32_3469 : BitVec 32 := 0#32
  ![v5624.toNat, 0]

def k0_chk367 (i : grid0.Coords) (v5623 : BitVec 32) : Prop :=
  (∀ (k0_h2 : k0_cond2 i = 1#1), 8 ∣ (k0_mult733 v5623).toNat) ∧
  (∀ (k0_h2 : k0_cond2 i = 1#1), ∀ a, (k0_off1485 v5623) a + S8x128.size a ≤ S131072x128.size a)
theorem k0_mult733_dvd : ∀ (i : grid0.Coords) (v5623 : BitVec 32) (k0_hw367 : k0_chk367 i v5623), ∀ (k0_h2 : k0_cond2 i = 1#1), 8 ∣ (k0_mult733 v5623).toNat := fun i v5623 k0_hw367 k0_h2 => k0_hw367.1 k0_h2
theorem k0_off1485_inb : ∀ (i : grid0.Coords) (v5623 : BitVec 32) (k0_hw367 : k0_chk367 i v5623), ∀ (k0_h2 : k0_cond2 i = 1#1), ∀ a, (k0_off1485 v5623) a + S8x128.size a ≤ S131072x128.size a := fun i v5623 k0_hw367 k0_h2 => k0_hw367.2 k0_h2

def k0_off1486 (i : grid0.Coords) : Fin 3 → Nat :=
  let c0_3475 : Index := 0#32
  let c0_3476 : Index := 0#32
  let arg1 : BitVec 32 := BitVec.ofNat 32 (i 1).val
  let c2_i32_3470 : BitVec 32 := 2#32
  let v5632 : BitVec 32 := Scalar.muli arg1 c2_i32_3470
  let c1_i32_3471 : BitVec 32 := 1#32
  let v5633 : BitVec 32 := Scalar.addi v5632 c1_i32_3471
  let c256_i32_3472 : BitVec 32 := 256#32
  let v5634 : BitVec 32 := Scalar.muli v5633 c256_i32_3472
  let c110_i32_3473 : BitVec 32 := 110#32
  let v5635 : BitVec 32 := Scalar.addi v5634 c110_i32_3473
  let v5637 : Index := Scalar.indexCast v5635
  ![0, 0, v5637.toNat]
def k0_mult735 (v5638 : BitVec 32) : BitVec 32 :=
  v5638

def k0_mult736 (i : grid0.Coords) : BitVec 32 :=
  let arg1 : BitVec 32 := BitVec.ofNat 32 (i 1).val
  let c2_i32_3470 : BitVec 32 := 2#32
  let v5632 : BitVec 32 := Scalar.muli arg1 c2_i32_3470
  let c1_i32_3471 : BitVec 32 := 1#32
  let v5633 : BitVec 32 := Scalar.addi v5632 c1_i32_3471
  let c256_i32_3472 : BitVec 32 := 256#32
  let v5634 : BitVec 32 := Scalar.muli v5633 c256_i32_3472
  let c110_i32_3473 : BitVec 32 := 110#32
  let v5635 : BitVec 32 := Scalar.addi v5634 c110_i32_3473
  let c8_i32_3477 : BitVec 32 := 8#32
  let v5640 : BitVec 32 := Scalar.muli v5635 c8_i32_3477
  v5640
def k0_off1487 (i : grid0.Coords) : Fin 1 → Nat :=
  let c1_i32_3474 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5636 : BitVec 32 := Scalar.subi c1_i32_3474 v9
  ![v5636.toNat]
def k0_off1488 (i : grid0.Coords) : Fin 3 → Nat :=
  let c1_i32_3474 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5636 : BitVec 32 := Scalar.subi c1_i32_3474 v9
  let arg1 : BitVec 32 := BitVec.ofNat 32 (i 1).val
  let c2_i32_3470 : BitVec 32 := 2#32
  let v5632 : BitVec 32 := Scalar.muli arg1 c2_i32_3470
  let c1_i32_3471 : BitVec 32 := 1#32
  let v5633 : BitVec 32 := Scalar.addi v5632 c1_i32_3471
  let c256_i32_3472 : BitVec 32 := 256#32
  let v5634 : BitVec 32 := Scalar.muli v5633 c256_i32_3472
  let c110_i32_3473 : BitVec 32 := 110#32
  let v5635 : BitVec 32 := Scalar.addi v5634 c110_i32_3473
  let c8_i32_3477 : BitVec 32 := 8#32
  let v5640 : BitVec 32 := Scalar.muli v5635 c8_i32_3477
  let v5641 : BitVec 32 := v5640
  let c0_i32_3478 : BitVec 32 := 0#32
  ![v5636.toNat, v5641.toNat, 0]
def k0_off1489 (v5638 : BitVec 32) : Fin 2 → Nat :=
  let v5639 : BitVec 32 := v5638
  let c0_i32_3479 : BitVec 32 := 0#32
  ![v5639.toNat, 0]

def k0_chk368 (i : grid0.Coords) (v5638 : BitVec 32) : Prop :=
  (∀ (k0_h2 : k0_cond2 i = 1#1), 8 ∣ (k0_mult735 v5638).toNat) ∧
  (∀ (k0_h2 : k0_cond2 i = 1#1), ∀ a, (k0_off1489 v5638) a + S8x128.size a ≤ S131072x128.size a)
theorem k0_mult735_dvd : ∀ (i : grid0.Coords) (v5638 : BitVec 32) (k0_hw368 : k0_chk368 i v5638), ∀ (k0_h2 : k0_cond2 i = 1#1), 8 ∣ (k0_mult735 v5638).toNat := fun i v5638 k0_hw368 k0_h2 => k0_hw368.1 k0_h2
theorem k0_off1489_inb : ∀ (i : grid0.Coords) (v5638 : BitVec 32) (k0_hw368 : k0_chk368 i v5638), ∀ (k0_h2 : k0_cond2 i = 1#1), ∀ a, (k0_off1489 v5638) a + S8x128.size a ≤ S131072x128.size a := fun i v5638 k0_hw368 k0_h2 => k0_hw368.2 k0_h2

def k0_off1490 (i : grid0.Coords) : Fin 3 → Nat :=
  let c0_3485 : Index := 0#32
  let c0_3486 : Index := 0#32
  let arg1 : BitVec 32 := BitVec.ofNat 32 (i 1).val
  let c2_i32_3480 : BitVec 32 := 2#32
  let v5647 : BitVec 32 := Scalar.muli arg1 c2_i32_3480
  let c1_i32_3481 : BitVec 32 := 1#32
  let v5648 : BitVec 32 := Scalar.addi v5647 c1_i32_3481
  let c256_i32_3482 : BitVec 32 := 256#32
  let v5649 : BitVec 32 := Scalar.muli v5648 c256_i32_3482
  let c111_i32_3483 : BitVec 32 := 111#32
  let v5650 : BitVec 32 := Scalar.addi v5649 c111_i32_3483
  let v5652 : Index := Scalar.indexCast v5650
  ![0, 0, v5652.toNat]
def k0_mult737 (v5653 : BitVec 32) : BitVec 32 :=
  v5653

def k0_mult738 (i : grid0.Coords) : BitVec 32 :=
  let arg1 : BitVec 32 := BitVec.ofNat 32 (i 1).val
  let c2_i32_3480 : BitVec 32 := 2#32
  let v5647 : BitVec 32 := Scalar.muli arg1 c2_i32_3480
  let c1_i32_3481 : BitVec 32 := 1#32
  let v5648 : BitVec 32 := Scalar.addi v5647 c1_i32_3481
  let c256_i32_3482 : BitVec 32 := 256#32
  let v5649 : BitVec 32 := Scalar.muli v5648 c256_i32_3482
  let c111_i32_3483 : BitVec 32 := 111#32
  let v5650 : BitVec 32 := Scalar.addi v5649 c111_i32_3483
  let c8_i32_3487 : BitVec 32 := 8#32
  let v5655 : BitVec 32 := Scalar.muli v5650 c8_i32_3487
  v5655
def k0_off1491 (i : grid0.Coords) : Fin 1 → Nat :=
  let c1_i32_3484 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5651 : BitVec 32 := Scalar.subi c1_i32_3484 v9
  ![v5651.toNat]
def k0_off1492 (i : grid0.Coords) : Fin 3 → Nat :=
  let c1_i32_3484 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5651 : BitVec 32 := Scalar.subi c1_i32_3484 v9
  let arg1 : BitVec 32 := BitVec.ofNat 32 (i 1).val
  let c2_i32_3480 : BitVec 32 := 2#32
  let v5647 : BitVec 32 := Scalar.muli arg1 c2_i32_3480
  let c1_i32_3481 : BitVec 32 := 1#32
  let v5648 : BitVec 32 := Scalar.addi v5647 c1_i32_3481
  let c256_i32_3482 : BitVec 32 := 256#32
  let v5649 : BitVec 32 := Scalar.muli v5648 c256_i32_3482
  let c111_i32_3483 : BitVec 32 := 111#32
  let v5650 : BitVec 32 := Scalar.addi v5649 c111_i32_3483
  let c8_i32_3487 : BitVec 32 := 8#32
  let v5655 : BitVec 32 := Scalar.muli v5650 c8_i32_3487
  let v5656 : BitVec 32 := v5655
  let c0_i32_3488 : BitVec 32 := 0#32
  ![v5651.toNat, v5656.toNat, 0]
def k0_off1493 (v5653 : BitVec 32) : Fin 2 → Nat :=
  let v5654 : BitVec 32 := v5653
  let c0_i32_3489 : BitVec 32 := 0#32
  ![v5654.toNat, 0]

def k0_chk369 (i : grid0.Coords) (v5653 : BitVec 32) : Prop :=
  (∀ (k0_h2 : k0_cond2 i = 1#1), 8 ∣ (k0_mult737 v5653).toNat) ∧
  (∀ (k0_h2 : k0_cond2 i = 1#1), ∀ a, (k0_off1493 v5653) a + S8x128.size a ≤ S131072x128.size a)
theorem k0_mult737_dvd : ∀ (i : grid0.Coords) (v5653 : BitVec 32) (k0_hw369 : k0_chk369 i v5653), ∀ (k0_h2 : k0_cond2 i = 1#1), 8 ∣ (k0_mult737 v5653).toNat := fun i v5653 k0_hw369 k0_h2 => k0_hw369.1 k0_h2
theorem k0_off1493_inb : ∀ (i : grid0.Coords) (v5653 : BitVec 32) (k0_hw369 : k0_chk369 i v5653), ∀ (k0_h2 : k0_cond2 i = 1#1), ∀ a, (k0_off1493 v5653) a + S8x128.size a ≤ S131072x128.size a := fun i v5653 k0_hw369 k0_h2 => k0_hw369.2 k0_h2

def k0_off1494 (i : grid0.Coords) : Fin 3 → Nat :=
  let c0_3495 : Index := 0#32
  let c0_3496 : Index := 0#32
  let arg1 : BitVec 32 := BitVec.ofNat 32 (i 1).val
  let c2_i32_3490 : BitVec 32 := 2#32
  let v5662 : BitVec 32 := Scalar.muli arg1 c2_i32_3490
  let c1_i32_3491 : BitVec 32 := 1#32
  let v5663 : BitVec 32 := Scalar.addi v5662 c1_i32_3491
  let c256_i32_3492 : BitVec 32 := 256#32
  let v5664 : BitVec 32 := Scalar.muli v5663 c256_i32_3492
  let c112_i32_3493 : BitVec 32 := 112#32
  let v5665 : BitVec 32 := Scalar.addi v5664 c112_i32_3493
  let v5667 : Index := Scalar.indexCast v5665
  ![0, 0, v5667.toNat]
def k0_mult739 (v5668 : BitVec 32) : BitVec 32 :=
  v5668

def k0_mult740 (i : grid0.Coords) : BitVec 32 :=
  let arg1 : BitVec 32 := BitVec.ofNat 32 (i 1).val
  let c2_i32_3490 : BitVec 32 := 2#32
  let v5662 : BitVec 32 := Scalar.muli arg1 c2_i32_3490
  let c1_i32_3491 : BitVec 32 := 1#32
  let v5663 : BitVec 32 := Scalar.addi v5662 c1_i32_3491
  let c256_i32_3492 : BitVec 32 := 256#32
  let v5664 : BitVec 32 := Scalar.muli v5663 c256_i32_3492
  let c112_i32_3493 : BitVec 32 := 112#32
  let v5665 : BitVec 32 := Scalar.addi v5664 c112_i32_3493
  let c8_i32_3497 : BitVec 32 := 8#32
  let v5670 : BitVec 32 := Scalar.muli v5665 c8_i32_3497
  v5670
def k0_off1495 (i : grid0.Coords) : Fin 1 → Nat :=
  let c1_i32_3494 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5666 : BitVec 32 := Scalar.subi c1_i32_3494 v9
  ![v5666.toNat]
def k0_off1496 (i : grid0.Coords) : Fin 3 → Nat :=
  let c1_i32_3494 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5666 : BitVec 32 := Scalar.subi c1_i32_3494 v9
  let arg1 : BitVec 32 := BitVec.ofNat 32 (i 1).val
  let c2_i32_3490 : BitVec 32 := 2#32
  let v5662 : BitVec 32 := Scalar.muli arg1 c2_i32_3490
  let c1_i32_3491 : BitVec 32 := 1#32
  let v5663 : BitVec 32 := Scalar.addi v5662 c1_i32_3491
  let c256_i32_3492 : BitVec 32 := 256#32
  let v5664 : BitVec 32 := Scalar.muli v5663 c256_i32_3492
  let c112_i32_3493 : BitVec 32 := 112#32
  let v5665 : BitVec 32 := Scalar.addi v5664 c112_i32_3493
  let c8_i32_3497 : BitVec 32 := 8#32
  let v5670 : BitVec 32 := Scalar.muli v5665 c8_i32_3497
  let v5671 : BitVec 32 := v5670
  let c0_i32_3498 : BitVec 32 := 0#32
  ![v5666.toNat, v5671.toNat, 0]
def k0_off1497 (v5668 : BitVec 32) : Fin 2 → Nat :=
  let v5669 : BitVec 32 := v5668
  let c0_i32_3499 : BitVec 32 := 0#32
  ![v5669.toNat, 0]

def k0_chk370 (i : grid0.Coords) (v5668 : BitVec 32) : Prop :=
  (∀ (k0_h2 : k0_cond2 i = 1#1), 8 ∣ (k0_mult739 v5668).toNat) ∧
  (∀ (k0_h2 : k0_cond2 i = 1#1), ∀ a, (k0_off1497 v5668) a + S8x128.size a ≤ S131072x128.size a)
theorem k0_mult739_dvd : ∀ (i : grid0.Coords) (v5668 : BitVec 32) (k0_hw370 : k0_chk370 i v5668), ∀ (k0_h2 : k0_cond2 i = 1#1), 8 ∣ (k0_mult739 v5668).toNat := fun i v5668 k0_hw370 k0_h2 => k0_hw370.1 k0_h2
theorem k0_off1497_inb : ∀ (i : grid0.Coords) (v5668 : BitVec 32) (k0_hw370 : k0_chk370 i v5668), ∀ (k0_h2 : k0_cond2 i = 1#1), ∀ a, (k0_off1497 v5668) a + S8x128.size a ≤ S131072x128.size a := fun i v5668 k0_hw370 k0_h2 => k0_hw370.2 k0_h2

def k0_off1498 (i : grid0.Coords) : Fin 3 → Nat :=
  let c0_3505 : Index := 0#32
  let c0_3506 : Index := 0#32
  let arg1 : BitVec 32 := BitVec.ofNat 32 (i 1).val
  let c2_i32_3500 : BitVec 32 := 2#32
  let v5677 : BitVec 32 := Scalar.muli arg1 c2_i32_3500
  let c1_i32_3501 : BitVec 32 := 1#32
  let v5678 : BitVec 32 := Scalar.addi v5677 c1_i32_3501
  let c256_i32_3502 : BitVec 32 := 256#32
  let v5679 : BitVec 32 := Scalar.muli v5678 c256_i32_3502
  let c113_i32_3503 : BitVec 32 := 113#32
  let v5680 : BitVec 32 := Scalar.addi v5679 c113_i32_3503
  let v5682 : Index := Scalar.indexCast v5680
  ![0, 0, v5682.toNat]
def k0_mult741 (v5683 : BitVec 32) : BitVec 32 :=
  v5683

def k0_mult742 (i : grid0.Coords) : BitVec 32 :=
  let arg1 : BitVec 32 := BitVec.ofNat 32 (i 1).val
  let c2_i32_3500 : BitVec 32 := 2#32
  let v5677 : BitVec 32 := Scalar.muli arg1 c2_i32_3500
  let c1_i32_3501 : BitVec 32 := 1#32
  let v5678 : BitVec 32 := Scalar.addi v5677 c1_i32_3501
  let c256_i32_3502 : BitVec 32 := 256#32
  let v5679 : BitVec 32 := Scalar.muli v5678 c256_i32_3502
  let c113_i32_3503 : BitVec 32 := 113#32
  let v5680 : BitVec 32 := Scalar.addi v5679 c113_i32_3503
  let c8_i32_3507 : BitVec 32 := 8#32
  let v5685 : BitVec 32 := Scalar.muli v5680 c8_i32_3507
  v5685
def k0_off1499 (i : grid0.Coords) : Fin 1 → Nat :=
  let c1_i32_3504 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5681 : BitVec 32 := Scalar.subi c1_i32_3504 v9
  ![v5681.toNat]
def k0_off1500 (i : grid0.Coords) : Fin 3 → Nat :=
  let c1_i32_3504 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5681 : BitVec 32 := Scalar.subi c1_i32_3504 v9
  let arg1 : BitVec 32 := BitVec.ofNat 32 (i 1).val
  let c2_i32_3500 : BitVec 32 := 2#32
  let v5677 : BitVec 32 := Scalar.muli arg1 c2_i32_3500
  let c1_i32_3501 : BitVec 32 := 1#32
  let v5678 : BitVec 32 := Scalar.addi v5677 c1_i32_3501
  let c256_i32_3502 : BitVec 32 := 256#32
  let v5679 : BitVec 32 := Scalar.muli v5678 c256_i32_3502
  let c113_i32_3503 : BitVec 32 := 113#32
  let v5680 : BitVec 32 := Scalar.addi v5679 c113_i32_3503
  let c8_i32_3507 : BitVec 32 := 8#32
  let v5685 : BitVec 32 := Scalar.muli v5680 c8_i32_3507
  let v5686 : BitVec 32 := v5685
  let c0_i32_3508 : BitVec 32 := 0#32
  ![v5681.toNat, v5686.toNat, 0]
def k0_off1501 (v5683 : BitVec 32) : Fin 2 → Nat :=
  let v5684 : BitVec 32 := v5683
  let c0_i32_3509 : BitVec 32 := 0#32
  ![v5684.toNat, 0]

def k0_chk371 (i : grid0.Coords) (v5683 : BitVec 32) : Prop :=
  (∀ (k0_h2 : k0_cond2 i = 1#1), 8 ∣ (k0_mult741 v5683).toNat) ∧
  (∀ (k0_h2 : k0_cond2 i = 1#1), ∀ a, (k0_off1501 v5683) a + S8x128.size a ≤ S131072x128.size a)
theorem k0_mult741_dvd : ∀ (i : grid0.Coords) (v5683 : BitVec 32) (k0_hw371 : k0_chk371 i v5683), ∀ (k0_h2 : k0_cond2 i = 1#1), 8 ∣ (k0_mult741 v5683).toNat := fun i v5683 k0_hw371 k0_h2 => k0_hw371.1 k0_h2
theorem k0_off1501_inb : ∀ (i : grid0.Coords) (v5683 : BitVec 32) (k0_hw371 : k0_chk371 i v5683), ∀ (k0_h2 : k0_cond2 i = 1#1), ∀ a, (k0_off1501 v5683) a + S8x128.size a ≤ S131072x128.size a := fun i v5683 k0_hw371 k0_h2 => k0_hw371.2 k0_h2

def k0_off1502 (i : grid0.Coords) : Fin 3 → Nat :=
  let c0_3515 : Index := 0#32
  let c0_3516 : Index := 0#32
  let arg1 : BitVec 32 := BitVec.ofNat 32 (i 1).val
  let c2_i32_3510 : BitVec 32 := 2#32
  let v5692 : BitVec 32 := Scalar.muli arg1 c2_i32_3510
  let c1_i32_3511 : BitVec 32 := 1#32
  let v5693 : BitVec 32 := Scalar.addi v5692 c1_i32_3511
  let c256_i32_3512 : BitVec 32 := 256#32
  let v5694 : BitVec 32 := Scalar.muli v5693 c256_i32_3512
  let c114_i32_3513 : BitVec 32 := 114#32
  let v5695 : BitVec 32 := Scalar.addi v5694 c114_i32_3513
  let v5697 : Index := Scalar.indexCast v5695
  ![0, 0, v5697.toNat]
def k0_mult743 (v5698 : BitVec 32) : BitVec 32 :=
  v5698

def k0_mult744 (i : grid0.Coords) : BitVec 32 :=
  let arg1 : BitVec 32 := BitVec.ofNat 32 (i 1).val
  let c2_i32_3510 : BitVec 32 := 2#32
  let v5692 : BitVec 32 := Scalar.muli arg1 c2_i32_3510
  let c1_i32_3511 : BitVec 32 := 1#32
  let v5693 : BitVec 32 := Scalar.addi v5692 c1_i32_3511
  let c256_i32_3512 : BitVec 32 := 256#32
  let v5694 : BitVec 32 := Scalar.muli v5693 c256_i32_3512
  let c114_i32_3513 : BitVec 32 := 114#32
  let v5695 : BitVec 32 := Scalar.addi v5694 c114_i32_3513
  let c8_i32_3517 : BitVec 32 := 8#32
  let v5700 : BitVec 32 := Scalar.muli v5695 c8_i32_3517
  v5700
def k0_off1503 (i : grid0.Coords) : Fin 1 → Nat :=
  let c1_i32_3514 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5696 : BitVec 32 := Scalar.subi c1_i32_3514 v9
  ![v5696.toNat]
def k0_off1504 (i : grid0.Coords) : Fin 3 → Nat :=
  let c1_i32_3514 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5696 : BitVec 32 := Scalar.subi c1_i32_3514 v9
  let arg1 : BitVec 32 := BitVec.ofNat 32 (i 1).val
  let c2_i32_3510 : BitVec 32 := 2#32
  let v5692 : BitVec 32 := Scalar.muli arg1 c2_i32_3510
  let c1_i32_3511 : BitVec 32 := 1#32
  let v5693 : BitVec 32 := Scalar.addi v5692 c1_i32_3511
  let c256_i32_3512 : BitVec 32 := 256#32
  let v5694 : BitVec 32 := Scalar.muli v5693 c256_i32_3512
  let c114_i32_3513 : BitVec 32 := 114#32
  let v5695 : BitVec 32 := Scalar.addi v5694 c114_i32_3513
  let c8_i32_3517 : BitVec 32 := 8#32
  let v5700 : BitVec 32 := Scalar.muli v5695 c8_i32_3517
  let v5701 : BitVec 32 := v5700
  let c0_i32_3518 : BitVec 32 := 0#32
  ![v5696.toNat, v5701.toNat, 0]
def k0_off1505 (v5698 : BitVec 32) : Fin 2 → Nat :=
  let v5699 : BitVec 32 := v5698
  let c0_i32_3519 : BitVec 32 := 0#32
  ![v5699.toNat, 0]

def k0_chk372 (i : grid0.Coords) (v5698 : BitVec 32) : Prop :=
  (∀ (k0_h2 : k0_cond2 i = 1#1), 8 ∣ (k0_mult743 v5698).toNat) ∧
  (∀ (k0_h2 : k0_cond2 i = 1#1), ∀ a, (k0_off1505 v5698) a + S8x128.size a ≤ S131072x128.size a)
theorem k0_mult743_dvd : ∀ (i : grid0.Coords) (v5698 : BitVec 32) (k0_hw372 : k0_chk372 i v5698), ∀ (k0_h2 : k0_cond2 i = 1#1), 8 ∣ (k0_mult743 v5698).toNat := fun i v5698 k0_hw372 k0_h2 => k0_hw372.1 k0_h2
theorem k0_off1505_inb : ∀ (i : grid0.Coords) (v5698 : BitVec 32) (k0_hw372 : k0_chk372 i v5698), ∀ (k0_h2 : k0_cond2 i = 1#1), ∀ a, (k0_off1505 v5698) a + S8x128.size a ≤ S131072x128.size a := fun i v5698 k0_hw372 k0_h2 => k0_hw372.2 k0_h2

def k0_off1506 (i : grid0.Coords) : Fin 3 → Nat :=
  let c0_3525 : Index := 0#32
  let c0_3526 : Index := 0#32
  let arg1 : BitVec 32 := BitVec.ofNat 32 (i 1).val
  let c2_i32_3520 : BitVec 32 := 2#32
  let v5707 : BitVec 32 := Scalar.muli arg1 c2_i32_3520
  let c1_i32_3521 : BitVec 32 := 1#32
  let v5708 : BitVec 32 := Scalar.addi v5707 c1_i32_3521
  let c256_i32_3522 : BitVec 32 := 256#32
  let v5709 : BitVec 32 := Scalar.muli v5708 c256_i32_3522
  let c115_i32_3523 : BitVec 32 := 115#32
  let v5710 : BitVec 32 := Scalar.addi v5709 c115_i32_3523
  let v5712 : Index := Scalar.indexCast v5710
  ![0, 0, v5712.toNat]
def k0_mult745 (v5713 : BitVec 32) : BitVec 32 :=
  v5713

def k0_mult746 (i : grid0.Coords) : BitVec 32 :=
  let arg1 : BitVec 32 := BitVec.ofNat 32 (i 1).val
  let c2_i32_3520 : BitVec 32 := 2#32
  let v5707 : BitVec 32 := Scalar.muli arg1 c2_i32_3520
  let c1_i32_3521 : BitVec 32 := 1#32
  let v5708 : BitVec 32 := Scalar.addi v5707 c1_i32_3521
  let c256_i32_3522 : BitVec 32 := 256#32
  let v5709 : BitVec 32 := Scalar.muli v5708 c256_i32_3522
  let c115_i32_3523 : BitVec 32 := 115#32
  let v5710 : BitVec 32 := Scalar.addi v5709 c115_i32_3523
  let c8_i32_3527 : BitVec 32 := 8#32
  let v5715 : BitVec 32 := Scalar.muli v5710 c8_i32_3527
  v5715
def k0_off1507 (i : grid0.Coords) : Fin 1 → Nat :=
  let c1_i32_3524 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5711 : BitVec 32 := Scalar.subi c1_i32_3524 v9
  ![v5711.toNat]
def k0_off1508 (i : grid0.Coords) : Fin 3 → Nat :=
  let c1_i32_3524 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5711 : BitVec 32 := Scalar.subi c1_i32_3524 v9
  let arg1 : BitVec 32 := BitVec.ofNat 32 (i 1).val
  let c2_i32_3520 : BitVec 32 := 2#32
  let v5707 : BitVec 32 := Scalar.muli arg1 c2_i32_3520
  let c1_i32_3521 : BitVec 32 := 1#32
  let v5708 : BitVec 32 := Scalar.addi v5707 c1_i32_3521
  let c256_i32_3522 : BitVec 32 := 256#32
  let v5709 : BitVec 32 := Scalar.muli v5708 c256_i32_3522
  let c115_i32_3523 : BitVec 32 := 115#32
  let v5710 : BitVec 32 := Scalar.addi v5709 c115_i32_3523
  let c8_i32_3527 : BitVec 32 := 8#32
  let v5715 : BitVec 32 := Scalar.muli v5710 c8_i32_3527
  let v5716 : BitVec 32 := v5715
  let c0_i32_3528 : BitVec 32 := 0#32
  ![v5711.toNat, v5716.toNat, 0]
def k0_off1509 (v5713 : BitVec 32) : Fin 2 → Nat :=
  let v5714 : BitVec 32 := v5713
  let c0_i32_3529 : BitVec 32 := 0#32
  ![v5714.toNat, 0]

def k0_chk373 (i : grid0.Coords) (v5713 : BitVec 32) : Prop :=
  (∀ (k0_h2 : k0_cond2 i = 1#1), 8 ∣ (k0_mult745 v5713).toNat) ∧
  (∀ (k0_h2 : k0_cond2 i = 1#1), ∀ a, (k0_off1509 v5713) a + S8x128.size a ≤ S131072x128.size a)
theorem k0_mult745_dvd : ∀ (i : grid0.Coords) (v5713 : BitVec 32) (k0_hw373 : k0_chk373 i v5713), ∀ (k0_h2 : k0_cond2 i = 1#1), 8 ∣ (k0_mult745 v5713).toNat := fun i v5713 k0_hw373 k0_h2 => k0_hw373.1 k0_h2
theorem k0_off1509_inb : ∀ (i : grid0.Coords) (v5713 : BitVec 32) (k0_hw373 : k0_chk373 i v5713), ∀ (k0_h2 : k0_cond2 i = 1#1), ∀ a, (k0_off1509 v5713) a + S8x128.size a ≤ S131072x128.size a := fun i v5713 k0_hw373 k0_h2 => k0_hw373.2 k0_h2

def k0_off1510 (i : grid0.Coords) : Fin 3 → Nat :=
  let c0_3535 : Index := 0#32
  let c0_3536 : Index := 0#32
  let arg1 : BitVec 32 := BitVec.ofNat 32 (i 1).val
  let c2_i32_3530 : BitVec 32 := 2#32
  let v5722 : BitVec 32 := Scalar.muli arg1 c2_i32_3530
  let c1_i32_3531 : BitVec 32 := 1#32
  let v5723 : BitVec 32 := Scalar.addi v5722 c1_i32_3531
  let c256_i32_3532 : BitVec 32 := 256#32
  let v5724 : BitVec 32 := Scalar.muli v5723 c256_i32_3532
  let c116_i32_3533 : BitVec 32 := 116#32
  let v5725 : BitVec 32 := Scalar.addi v5724 c116_i32_3533
  let v5727 : Index := Scalar.indexCast v5725
  ![0, 0, v5727.toNat]
def k0_mult747 (v5728 : BitVec 32) : BitVec 32 :=
  v5728

def k0_mult748 (i : grid0.Coords) : BitVec 32 :=
  let arg1 : BitVec 32 := BitVec.ofNat 32 (i 1).val
  let c2_i32_3530 : BitVec 32 := 2#32
  let v5722 : BitVec 32 := Scalar.muli arg1 c2_i32_3530
  let c1_i32_3531 : BitVec 32 := 1#32
  let v5723 : BitVec 32 := Scalar.addi v5722 c1_i32_3531
  let c256_i32_3532 : BitVec 32 := 256#32
  let v5724 : BitVec 32 := Scalar.muli v5723 c256_i32_3532
  let c116_i32_3533 : BitVec 32 := 116#32
  let v5725 : BitVec 32 := Scalar.addi v5724 c116_i32_3533
  let c8_i32_3537 : BitVec 32 := 8#32
  let v5730 : BitVec 32 := Scalar.muli v5725 c8_i32_3537
  v5730
def k0_off1511 (i : grid0.Coords) : Fin 1 → Nat :=
  let c1_i32_3534 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5726 : BitVec 32 := Scalar.subi c1_i32_3534 v9
  ![v5726.toNat]
def k0_off1512 (i : grid0.Coords) : Fin 3 → Nat :=
  let c1_i32_3534 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5726 : BitVec 32 := Scalar.subi c1_i32_3534 v9
  let arg1 : BitVec 32 := BitVec.ofNat 32 (i 1).val
  let c2_i32_3530 : BitVec 32 := 2#32
  let v5722 : BitVec 32 := Scalar.muli arg1 c2_i32_3530
  let c1_i32_3531 : BitVec 32 := 1#32
  let v5723 : BitVec 32 := Scalar.addi v5722 c1_i32_3531
  let c256_i32_3532 : BitVec 32 := 256#32
  let v5724 : BitVec 32 := Scalar.muli v5723 c256_i32_3532
  let c116_i32_3533 : BitVec 32 := 116#32
  let v5725 : BitVec 32 := Scalar.addi v5724 c116_i32_3533
  let c8_i32_3537 : BitVec 32 := 8#32
  let v5730 : BitVec 32 := Scalar.muli v5725 c8_i32_3537
  let v5731 : BitVec 32 := v5730
  let c0_i32_3538 : BitVec 32 := 0#32
  ![v5726.toNat, v5731.toNat, 0]
def k0_off1513 (v5728 : BitVec 32) : Fin 2 → Nat :=
  let v5729 : BitVec 32 := v5728
  let c0_i32_3539 : BitVec 32 := 0#32
  ![v5729.toNat, 0]

def k0_chk374 (i : grid0.Coords) (v5728 : BitVec 32) : Prop :=
  (∀ (k0_h2 : k0_cond2 i = 1#1), 8 ∣ (k0_mult747 v5728).toNat) ∧
  (∀ (k0_h2 : k0_cond2 i = 1#1), ∀ a, (k0_off1513 v5728) a + S8x128.size a ≤ S131072x128.size a)
theorem k0_mult747_dvd : ∀ (i : grid0.Coords) (v5728 : BitVec 32) (k0_hw374 : k0_chk374 i v5728), ∀ (k0_h2 : k0_cond2 i = 1#1), 8 ∣ (k0_mult747 v5728).toNat := fun i v5728 k0_hw374 k0_h2 => k0_hw374.1 k0_h2
theorem k0_off1513_inb : ∀ (i : grid0.Coords) (v5728 : BitVec 32) (k0_hw374 : k0_chk374 i v5728), ∀ (k0_h2 : k0_cond2 i = 1#1), ∀ a, (k0_off1513 v5728) a + S8x128.size a ≤ S131072x128.size a := fun i v5728 k0_hw374 k0_h2 => k0_hw374.2 k0_h2

def k0_off1514 (i : grid0.Coords) : Fin 3 → Nat :=
  let c0_3545 : Index := 0#32
  let c0_3546 : Index := 0#32
  let arg1 : BitVec 32 := BitVec.ofNat 32 (i 1).val
  let c2_i32_3540 : BitVec 32 := 2#32
  let v5737 : BitVec 32 := Scalar.muli arg1 c2_i32_3540
  let c1_i32_3541 : BitVec 32 := 1#32
  let v5738 : BitVec 32 := Scalar.addi v5737 c1_i32_3541
  let c256_i32_3542 : BitVec 32 := 256#32
  let v5739 : BitVec 32 := Scalar.muli v5738 c256_i32_3542
  let c117_i32_3543 : BitVec 32 := 117#32
  let v5740 : BitVec 32 := Scalar.addi v5739 c117_i32_3543
  let v5742 : Index := Scalar.indexCast v5740
  ![0, 0, v5742.toNat]
def k0_mult749 (v5743 : BitVec 32) : BitVec 32 :=
  v5743

def k0_mult750 (i : grid0.Coords) : BitVec 32 :=
  let arg1 : BitVec 32 := BitVec.ofNat 32 (i 1).val
  let c2_i32_3540 : BitVec 32 := 2#32
  let v5737 : BitVec 32 := Scalar.muli arg1 c2_i32_3540
  let c1_i32_3541 : BitVec 32 := 1#32
  let v5738 : BitVec 32 := Scalar.addi v5737 c1_i32_3541
  let c256_i32_3542 : BitVec 32 := 256#32
  let v5739 : BitVec 32 := Scalar.muli v5738 c256_i32_3542
  let c117_i32_3543 : BitVec 32 := 117#32
  let v5740 : BitVec 32 := Scalar.addi v5739 c117_i32_3543
  let c8_i32_3547 : BitVec 32 := 8#32
  let v5745 : BitVec 32 := Scalar.muli v5740 c8_i32_3547
  v5745
def k0_off1515 (i : grid0.Coords) : Fin 1 → Nat :=
  let c1_i32_3544 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5741 : BitVec 32 := Scalar.subi c1_i32_3544 v9
  ![v5741.toNat]
def k0_off1516 (i : grid0.Coords) : Fin 3 → Nat :=
  let c1_i32_3544 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5741 : BitVec 32 := Scalar.subi c1_i32_3544 v9
  let arg1 : BitVec 32 := BitVec.ofNat 32 (i 1).val
  let c2_i32_3540 : BitVec 32 := 2#32
  let v5737 : BitVec 32 := Scalar.muli arg1 c2_i32_3540
  let c1_i32_3541 : BitVec 32 := 1#32
  let v5738 : BitVec 32 := Scalar.addi v5737 c1_i32_3541
  let c256_i32_3542 : BitVec 32 := 256#32
  let v5739 : BitVec 32 := Scalar.muli v5738 c256_i32_3542
  let c117_i32_3543 : BitVec 32 := 117#32
  let v5740 : BitVec 32 := Scalar.addi v5739 c117_i32_3543
  let c8_i32_3547 : BitVec 32 := 8#32
  let v5745 : BitVec 32 := Scalar.muli v5740 c8_i32_3547
  let v5746 : BitVec 32 := v5745
  let c0_i32_3548 : BitVec 32 := 0#32
  ![v5741.toNat, v5746.toNat, 0]
def k0_off1517 (v5743 : BitVec 32) : Fin 2 → Nat :=
  let v5744 : BitVec 32 := v5743
  let c0_i32_3549 : BitVec 32 := 0#32
  ![v5744.toNat, 0]

def k0_chk375 (i : grid0.Coords) (v5743 : BitVec 32) : Prop :=
  (∀ (k0_h2 : k0_cond2 i = 1#1), 8 ∣ (k0_mult749 v5743).toNat) ∧
  (∀ (k0_h2 : k0_cond2 i = 1#1), ∀ a, (k0_off1517 v5743) a + S8x128.size a ≤ S131072x128.size a)
theorem k0_mult749_dvd : ∀ (i : grid0.Coords) (v5743 : BitVec 32) (k0_hw375 : k0_chk375 i v5743), ∀ (k0_h2 : k0_cond2 i = 1#1), 8 ∣ (k0_mult749 v5743).toNat := fun i v5743 k0_hw375 k0_h2 => k0_hw375.1 k0_h2
theorem k0_off1517_inb : ∀ (i : grid0.Coords) (v5743 : BitVec 32) (k0_hw375 : k0_chk375 i v5743), ∀ (k0_h2 : k0_cond2 i = 1#1), ∀ a, (k0_off1517 v5743) a + S8x128.size a ≤ S131072x128.size a := fun i v5743 k0_hw375 k0_h2 => k0_hw375.2 k0_h2

def k0_off1518 (i : grid0.Coords) : Fin 3 → Nat :=
  let c0_3555 : Index := 0#32
  let c0_3556 : Index := 0#32
  let arg1 : BitVec 32 := BitVec.ofNat 32 (i 1).val
  let c2_i32_3550 : BitVec 32 := 2#32
  let v5752 : BitVec 32 := Scalar.muli arg1 c2_i32_3550
  let c1_i32_3551 : BitVec 32 := 1#32
  let v5753 : BitVec 32 := Scalar.addi v5752 c1_i32_3551
  let c256_i32_3552 : BitVec 32 := 256#32
  let v5754 : BitVec 32 := Scalar.muli v5753 c256_i32_3552
  let c118_i32_3553 : BitVec 32 := 118#32
  let v5755 : BitVec 32 := Scalar.addi v5754 c118_i32_3553
  let v5757 : Index := Scalar.indexCast v5755
  ![0, 0, v5757.toNat]
def k0_mult751 (v5758 : BitVec 32) : BitVec 32 :=
  v5758

def k0_mult752 (i : grid0.Coords) : BitVec 32 :=
  let arg1 : BitVec 32 := BitVec.ofNat 32 (i 1).val
  let c2_i32_3550 : BitVec 32 := 2#32
  let v5752 : BitVec 32 := Scalar.muli arg1 c2_i32_3550
  let c1_i32_3551 : BitVec 32 := 1#32
  let v5753 : BitVec 32 := Scalar.addi v5752 c1_i32_3551
  let c256_i32_3552 : BitVec 32 := 256#32
  let v5754 : BitVec 32 := Scalar.muli v5753 c256_i32_3552
  let c118_i32_3553 : BitVec 32 := 118#32
  let v5755 : BitVec 32 := Scalar.addi v5754 c118_i32_3553
  let c8_i32_3557 : BitVec 32 := 8#32
  let v5760 : BitVec 32 := Scalar.muli v5755 c8_i32_3557
  v5760
def k0_off1519 (i : grid0.Coords) : Fin 1 → Nat :=
  let c1_i32_3554 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5756 : BitVec 32 := Scalar.subi c1_i32_3554 v9
  ![v5756.toNat]
def k0_off1520 (i : grid0.Coords) : Fin 3 → Nat :=
  let c1_i32_3554 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5756 : BitVec 32 := Scalar.subi c1_i32_3554 v9
  let arg1 : BitVec 32 := BitVec.ofNat 32 (i 1).val
  let c2_i32_3550 : BitVec 32 := 2#32
  let v5752 : BitVec 32 := Scalar.muli arg1 c2_i32_3550
  let c1_i32_3551 : BitVec 32 := 1#32
  let v5753 : BitVec 32 := Scalar.addi v5752 c1_i32_3551
  let c256_i32_3552 : BitVec 32 := 256#32
  let v5754 : BitVec 32 := Scalar.muli v5753 c256_i32_3552
  let c118_i32_3553 : BitVec 32 := 118#32
  let v5755 : BitVec 32 := Scalar.addi v5754 c118_i32_3553
  let c8_i32_3557 : BitVec 32 := 8#32
  let v5760 : BitVec 32 := Scalar.muli v5755 c8_i32_3557
  let v5761 : BitVec 32 := v5760
  let c0_i32_3558 : BitVec 32 := 0#32
  ![v5756.toNat, v5761.toNat, 0]
def k0_off1521 (v5758 : BitVec 32) : Fin 2 → Nat :=
  let v5759 : BitVec 32 := v5758
  let c0_i32_3559 : BitVec 32 := 0#32
  ![v5759.toNat, 0]

def k0_chk376 (i : grid0.Coords) (v5758 : BitVec 32) : Prop :=
  (∀ (k0_h2 : k0_cond2 i = 1#1), 8 ∣ (k0_mult751 v5758).toNat) ∧
  (∀ (k0_h2 : k0_cond2 i = 1#1), ∀ a, (k0_off1521 v5758) a + S8x128.size a ≤ S131072x128.size a)
theorem k0_mult751_dvd : ∀ (i : grid0.Coords) (v5758 : BitVec 32) (k0_hw376 : k0_chk376 i v5758), ∀ (k0_h2 : k0_cond2 i = 1#1), 8 ∣ (k0_mult751 v5758).toNat := fun i v5758 k0_hw376 k0_h2 => k0_hw376.1 k0_h2
theorem k0_off1521_inb : ∀ (i : grid0.Coords) (v5758 : BitVec 32) (k0_hw376 : k0_chk376 i v5758), ∀ (k0_h2 : k0_cond2 i = 1#1), ∀ a, (k0_off1521 v5758) a + S8x128.size a ≤ S131072x128.size a := fun i v5758 k0_hw376 k0_h2 => k0_hw376.2 k0_h2

def k0_off1522 (i : grid0.Coords) : Fin 3 → Nat :=
  let c0_3565 : Index := 0#32
  let c0_3566 : Index := 0#32
  let arg1 : BitVec 32 := BitVec.ofNat 32 (i 1).val
  let c2_i32_3560 : BitVec 32 := 2#32
  let v5767 : BitVec 32 := Scalar.muli arg1 c2_i32_3560
  let c1_i32_3561 : BitVec 32 := 1#32
  let v5768 : BitVec 32 := Scalar.addi v5767 c1_i32_3561
  let c256_i32_3562 : BitVec 32 := 256#32
  let v5769 : BitVec 32 := Scalar.muli v5768 c256_i32_3562
  let c119_i32_3563 : BitVec 32 := 119#32
  let v5770 : BitVec 32 := Scalar.addi v5769 c119_i32_3563
  let v5772 : Index := Scalar.indexCast v5770
  ![0, 0, v5772.toNat]
def k0_mult753 (v5773 : BitVec 32) : BitVec 32 :=
  v5773

def k0_mult754 (i : grid0.Coords) : BitVec 32 :=
  let arg1 : BitVec 32 := BitVec.ofNat 32 (i 1).val
  let c2_i32_3560 : BitVec 32 := 2#32
  let v5767 : BitVec 32 := Scalar.muli arg1 c2_i32_3560
  let c1_i32_3561 : BitVec 32 := 1#32
  let v5768 : BitVec 32 := Scalar.addi v5767 c1_i32_3561
  let c256_i32_3562 : BitVec 32 := 256#32
  let v5769 : BitVec 32 := Scalar.muli v5768 c256_i32_3562
  let c119_i32_3563 : BitVec 32 := 119#32
  let v5770 : BitVec 32 := Scalar.addi v5769 c119_i32_3563
  let c8_i32_3567 : BitVec 32 := 8#32
  let v5775 : BitVec 32 := Scalar.muli v5770 c8_i32_3567
  v5775
def k0_off1523 (i : grid0.Coords) : Fin 1 → Nat :=
  let c1_i32_3564 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5771 : BitVec 32 := Scalar.subi c1_i32_3564 v9
  ![v5771.toNat]
def k0_off1524 (i : grid0.Coords) : Fin 3 → Nat :=
  let c1_i32_3564 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5771 : BitVec 32 := Scalar.subi c1_i32_3564 v9
  let arg1 : BitVec 32 := BitVec.ofNat 32 (i 1).val
  let c2_i32_3560 : BitVec 32 := 2#32
  let v5767 : BitVec 32 := Scalar.muli arg1 c2_i32_3560
  let c1_i32_3561 : BitVec 32 := 1#32
  let v5768 : BitVec 32 := Scalar.addi v5767 c1_i32_3561
  let c256_i32_3562 : BitVec 32 := 256#32
  let v5769 : BitVec 32 := Scalar.muli v5768 c256_i32_3562
  let c119_i32_3563 : BitVec 32 := 119#32
  let v5770 : BitVec 32 := Scalar.addi v5769 c119_i32_3563
  let c8_i32_3567 : BitVec 32 := 8#32
  let v5775 : BitVec 32 := Scalar.muli v5770 c8_i32_3567
  let v5776 : BitVec 32 := v5775
  let c0_i32_3568 : BitVec 32 := 0#32
  ![v5771.toNat, v5776.toNat, 0]
def k0_off1525 (v5773 : BitVec 32) : Fin 2 → Nat :=
  let v5774 : BitVec 32 := v5773
  let c0_i32_3569 : BitVec 32 := 0#32
  ![v5774.toNat, 0]

def k0_chk377 (i : grid0.Coords) (v5773 : BitVec 32) : Prop :=
  (∀ (k0_h2 : k0_cond2 i = 1#1), 8 ∣ (k0_mult753 v5773).toNat) ∧
  (∀ (k0_h2 : k0_cond2 i = 1#1), ∀ a, (k0_off1525 v5773) a + S8x128.size a ≤ S131072x128.size a)
theorem k0_mult753_dvd : ∀ (i : grid0.Coords) (v5773 : BitVec 32) (k0_hw377 : k0_chk377 i v5773), ∀ (k0_h2 : k0_cond2 i = 1#1), 8 ∣ (k0_mult753 v5773).toNat := fun i v5773 k0_hw377 k0_h2 => k0_hw377.1 k0_h2
theorem k0_off1525_inb : ∀ (i : grid0.Coords) (v5773 : BitVec 32) (k0_hw377 : k0_chk377 i v5773), ∀ (k0_h2 : k0_cond2 i = 1#1), ∀ a, (k0_off1525 v5773) a + S8x128.size a ≤ S131072x128.size a := fun i v5773 k0_hw377 k0_h2 => k0_hw377.2 k0_h2

def k0_off1526 (i : grid0.Coords) : Fin 3 → Nat :=
  let c0_3575 : Index := 0#32
  let c0_3576 : Index := 0#32
  let arg1 : BitVec 32 := BitVec.ofNat 32 (i 1).val
  let c2_i32_3570 : BitVec 32 := 2#32
  let v5782 : BitVec 32 := Scalar.muli arg1 c2_i32_3570
  let c1_i32_3571 : BitVec 32 := 1#32
  let v5783 : BitVec 32 := Scalar.addi v5782 c1_i32_3571
  let c256_i32_3572 : BitVec 32 := 256#32
  let v5784 : BitVec 32 := Scalar.muli v5783 c256_i32_3572
  let c120_i32_3573 : BitVec 32 := 120#32
  let v5785 : BitVec 32 := Scalar.addi v5784 c120_i32_3573
  let v5787 : Index := Scalar.indexCast v5785
  ![0, 0, v5787.toNat]
def k0_mult755 (v5788 : BitVec 32) : BitVec 32 :=
  v5788

def k0_mult756 (i : grid0.Coords) : BitVec 32 :=
  let arg1 : BitVec 32 := BitVec.ofNat 32 (i 1).val
  let c2_i32_3570 : BitVec 32 := 2#32
  let v5782 : BitVec 32 := Scalar.muli arg1 c2_i32_3570
  let c1_i32_3571 : BitVec 32 := 1#32
  let v5783 : BitVec 32 := Scalar.addi v5782 c1_i32_3571
  let c256_i32_3572 : BitVec 32 := 256#32
  let v5784 : BitVec 32 := Scalar.muli v5783 c256_i32_3572
  let c120_i32_3573 : BitVec 32 := 120#32
  let v5785 : BitVec 32 := Scalar.addi v5784 c120_i32_3573
  let c8_i32_3577 : BitVec 32 := 8#32
  let v5790 : BitVec 32 := Scalar.muli v5785 c8_i32_3577
  v5790
def k0_off1527 (i : grid0.Coords) : Fin 1 → Nat :=
  let c1_i32_3574 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5786 : BitVec 32 := Scalar.subi c1_i32_3574 v9
  ![v5786.toNat]
def k0_off1528 (i : grid0.Coords) : Fin 3 → Nat :=
  let c1_i32_3574 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5786 : BitVec 32 := Scalar.subi c1_i32_3574 v9
  let arg1 : BitVec 32 := BitVec.ofNat 32 (i 1).val
  let c2_i32_3570 : BitVec 32 := 2#32
  let v5782 : BitVec 32 := Scalar.muli arg1 c2_i32_3570
  let c1_i32_3571 : BitVec 32 := 1#32
  let v5783 : BitVec 32 := Scalar.addi v5782 c1_i32_3571
  let c256_i32_3572 : BitVec 32 := 256#32
  let v5784 : BitVec 32 := Scalar.muli v5783 c256_i32_3572
  let c120_i32_3573 : BitVec 32 := 120#32
  let v5785 : BitVec 32 := Scalar.addi v5784 c120_i32_3573
  let c8_i32_3577 : BitVec 32 := 8#32
  let v5790 : BitVec 32 := Scalar.muli v5785 c8_i32_3577
  let v5791 : BitVec 32 := v5790
  let c0_i32_3578 : BitVec 32 := 0#32
  ![v5786.toNat, v5791.toNat, 0]
def k0_off1529 (v5788 : BitVec 32) : Fin 2 → Nat :=
  let v5789 : BitVec 32 := v5788
  let c0_i32_3579 : BitVec 32 := 0#32
  ![v5789.toNat, 0]

def k0_chk378 (i : grid0.Coords) (v5788 : BitVec 32) : Prop :=
  (∀ (k0_h2 : k0_cond2 i = 1#1), 8 ∣ (k0_mult755 v5788).toNat) ∧
  (∀ (k0_h2 : k0_cond2 i = 1#1), ∀ a, (k0_off1529 v5788) a + S8x128.size a ≤ S131072x128.size a)
theorem k0_mult755_dvd : ∀ (i : grid0.Coords) (v5788 : BitVec 32) (k0_hw378 : k0_chk378 i v5788), ∀ (k0_h2 : k0_cond2 i = 1#1), 8 ∣ (k0_mult755 v5788).toNat := fun i v5788 k0_hw378 k0_h2 => k0_hw378.1 k0_h2
theorem k0_off1529_inb : ∀ (i : grid0.Coords) (v5788 : BitVec 32) (k0_hw378 : k0_chk378 i v5788), ∀ (k0_h2 : k0_cond2 i = 1#1), ∀ a, (k0_off1529 v5788) a + S8x128.size a ≤ S131072x128.size a := fun i v5788 k0_hw378 k0_h2 => k0_hw378.2 k0_h2

def k0_off1530 (i : grid0.Coords) : Fin 3 → Nat :=
  let c0_3585 : Index := 0#32
  let c0_3586 : Index := 0#32
  let arg1 : BitVec 32 := BitVec.ofNat 32 (i 1).val
  let c2_i32_3580 : BitVec 32 := 2#32
  let v5797 : BitVec 32 := Scalar.muli arg1 c2_i32_3580
  let c1_i32_3581 : BitVec 32 := 1#32
  let v5798 : BitVec 32 := Scalar.addi v5797 c1_i32_3581
  let c256_i32_3582 : BitVec 32 := 256#32
  let v5799 : BitVec 32 := Scalar.muli v5798 c256_i32_3582
  let c121_i32_3583 : BitVec 32 := 121#32
  let v5800 : BitVec 32 := Scalar.addi v5799 c121_i32_3583
  let v5802 : Index := Scalar.indexCast v5800
  ![0, 0, v5802.toNat]
def k0_mult757 (v5803 : BitVec 32) : BitVec 32 :=
  v5803

def k0_mult758 (i : grid0.Coords) : BitVec 32 :=
  let arg1 : BitVec 32 := BitVec.ofNat 32 (i 1).val
  let c2_i32_3580 : BitVec 32 := 2#32
  let v5797 : BitVec 32 := Scalar.muli arg1 c2_i32_3580
  let c1_i32_3581 : BitVec 32 := 1#32
  let v5798 : BitVec 32 := Scalar.addi v5797 c1_i32_3581
  let c256_i32_3582 : BitVec 32 := 256#32
  let v5799 : BitVec 32 := Scalar.muli v5798 c256_i32_3582
  let c121_i32_3583 : BitVec 32 := 121#32
  let v5800 : BitVec 32 := Scalar.addi v5799 c121_i32_3583
  let c8_i32_3587 : BitVec 32 := 8#32
  let v5805 : BitVec 32 := Scalar.muli v5800 c8_i32_3587
  v5805
def k0_off1531 (i : grid0.Coords) : Fin 1 → Nat :=
  let c1_i32_3584 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5801 : BitVec 32 := Scalar.subi c1_i32_3584 v9
  ![v5801.toNat]
def k0_off1532 (i : grid0.Coords) : Fin 3 → Nat :=
  let c1_i32_3584 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5801 : BitVec 32 := Scalar.subi c1_i32_3584 v9
  let arg1 : BitVec 32 := BitVec.ofNat 32 (i 1).val
  let c2_i32_3580 : BitVec 32 := 2#32
  let v5797 : BitVec 32 := Scalar.muli arg1 c2_i32_3580
  let c1_i32_3581 : BitVec 32 := 1#32
  let v5798 : BitVec 32 := Scalar.addi v5797 c1_i32_3581
  let c256_i32_3582 : BitVec 32 := 256#32
  let v5799 : BitVec 32 := Scalar.muli v5798 c256_i32_3582
  let c121_i32_3583 : BitVec 32 := 121#32
  let v5800 : BitVec 32 := Scalar.addi v5799 c121_i32_3583
  let c8_i32_3587 : BitVec 32 := 8#32
  let v5805 : BitVec 32 := Scalar.muli v5800 c8_i32_3587
  let v5806 : BitVec 32 := v5805
  let c0_i32_3588 : BitVec 32 := 0#32
  ![v5801.toNat, v5806.toNat, 0]
def k0_off1533 (v5803 : BitVec 32) : Fin 2 → Nat :=
  let v5804 : BitVec 32 := v5803
  let c0_i32_3589 : BitVec 32 := 0#32
  ![v5804.toNat, 0]

def k0_chk379 (i : grid0.Coords) (v5803 : BitVec 32) : Prop :=
  (∀ (k0_h2 : k0_cond2 i = 1#1), 8 ∣ (k0_mult757 v5803).toNat) ∧
  (∀ (k0_h2 : k0_cond2 i = 1#1), ∀ a, (k0_off1533 v5803) a + S8x128.size a ≤ S131072x128.size a)
theorem k0_mult757_dvd : ∀ (i : grid0.Coords) (v5803 : BitVec 32) (k0_hw379 : k0_chk379 i v5803), ∀ (k0_h2 : k0_cond2 i = 1#1), 8 ∣ (k0_mult757 v5803).toNat := fun i v5803 k0_hw379 k0_h2 => k0_hw379.1 k0_h2
theorem k0_off1533_inb : ∀ (i : grid0.Coords) (v5803 : BitVec 32) (k0_hw379 : k0_chk379 i v5803), ∀ (k0_h2 : k0_cond2 i = 1#1), ∀ a, (k0_off1533 v5803) a + S8x128.size a ≤ S131072x128.size a := fun i v5803 k0_hw379 k0_h2 => k0_hw379.2 k0_h2

def k0_off1534 (i : grid0.Coords) : Fin 3 → Nat :=
  let c0_3595 : Index := 0#32
  let c0_3596 : Index := 0#32
  let arg1 : BitVec 32 := BitVec.ofNat 32 (i 1).val
  let c2_i32_3590 : BitVec 32 := 2#32
  let v5812 : BitVec 32 := Scalar.muli arg1 c2_i32_3590
  let c1_i32_3591 : BitVec 32 := 1#32
  let v5813 : BitVec 32 := Scalar.addi v5812 c1_i32_3591
  let c256_i32_3592 : BitVec 32 := 256#32
  let v5814 : BitVec 32 := Scalar.muli v5813 c256_i32_3592
  let c122_i32_3593 : BitVec 32 := 122#32
  let v5815 : BitVec 32 := Scalar.addi v5814 c122_i32_3593
  let v5817 : Index := Scalar.indexCast v5815
  ![0, 0, v5817.toNat]
def k0_mult759 (v5818 : BitVec 32) : BitVec 32 :=
  v5818

def k0_mult760 (i : grid0.Coords) : BitVec 32 :=
  let arg1 : BitVec 32 := BitVec.ofNat 32 (i 1).val
  let c2_i32_3590 : BitVec 32 := 2#32
  let v5812 : BitVec 32 := Scalar.muli arg1 c2_i32_3590
  let c1_i32_3591 : BitVec 32 := 1#32
  let v5813 : BitVec 32 := Scalar.addi v5812 c1_i32_3591
  let c256_i32_3592 : BitVec 32 := 256#32
  let v5814 : BitVec 32 := Scalar.muli v5813 c256_i32_3592
  let c122_i32_3593 : BitVec 32 := 122#32
  let v5815 : BitVec 32 := Scalar.addi v5814 c122_i32_3593
  let c8_i32_3597 : BitVec 32 := 8#32
  let v5820 : BitVec 32 := Scalar.muli v5815 c8_i32_3597
  v5820
def k0_off1535 (i : grid0.Coords) : Fin 1 → Nat :=
  let c1_i32_3594 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5816 : BitVec 32 := Scalar.subi c1_i32_3594 v9
  ![v5816.toNat]
def k0_off1536 (i : grid0.Coords) : Fin 3 → Nat :=
  let c1_i32_3594 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5816 : BitVec 32 := Scalar.subi c1_i32_3594 v9
  let arg1 : BitVec 32 := BitVec.ofNat 32 (i 1).val
  let c2_i32_3590 : BitVec 32 := 2#32
  let v5812 : BitVec 32 := Scalar.muli arg1 c2_i32_3590
  let c1_i32_3591 : BitVec 32 := 1#32
  let v5813 : BitVec 32 := Scalar.addi v5812 c1_i32_3591
  let c256_i32_3592 : BitVec 32 := 256#32
  let v5814 : BitVec 32 := Scalar.muli v5813 c256_i32_3592
  let c122_i32_3593 : BitVec 32 := 122#32
  let v5815 : BitVec 32 := Scalar.addi v5814 c122_i32_3593
  let c8_i32_3597 : BitVec 32 := 8#32
  let v5820 : BitVec 32 := Scalar.muli v5815 c8_i32_3597
  let v5821 : BitVec 32 := v5820
  let c0_i32_3598 : BitVec 32 := 0#32
  ![v5816.toNat, v5821.toNat, 0]
def k0_off1537 (v5818 : BitVec 32) : Fin 2 → Nat :=
  let v5819 : BitVec 32 := v5818
  let c0_i32_3599 : BitVec 32 := 0#32
  ![v5819.toNat, 0]

def k0_chk380 (i : grid0.Coords) (v5818 : BitVec 32) : Prop :=
  (∀ (k0_h2 : k0_cond2 i = 1#1), 8 ∣ (k0_mult759 v5818).toNat) ∧
  (∀ (k0_h2 : k0_cond2 i = 1#1), ∀ a, (k0_off1537 v5818) a + S8x128.size a ≤ S131072x128.size a)
theorem k0_mult759_dvd : ∀ (i : grid0.Coords) (v5818 : BitVec 32) (k0_hw380 : k0_chk380 i v5818), ∀ (k0_h2 : k0_cond2 i = 1#1), 8 ∣ (k0_mult759 v5818).toNat := fun i v5818 k0_hw380 k0_h2 => k0_hw380.1 k0_h2
theorem k0_off1537_inb : ∀ (i : grid0.Coords) (v5818 : BitVec 32) (k0_hw380 : k0_chk380 i v5818), ∀ (k0_h2 : k0_cond2 i = 1#1), ∀ a, (k0_off1537 v5818) a + S8x128.size a ≤ S131072x128.size a := fun i v5818 k0_hw380 k0_h2 => k0_hw380.2 k0_h2

def k0_off1538 (i : grid0.Coords) : Fin 3 → Nat :=
  let c0_3605 : Index := 0#32
  let c0_3606 : Index := 0#32
  let arg1 : BitVec 32 := BitVec.ofNat 32 (i 1).val
  let c2_i32_3600 : BitVec 32 := 2#32
  let v5827 : BitVec 32 := Scalar.muli arg1 c2_i32_3600
  let c1_i32_3601 : BitVec 32 := 1#32
  let v5828 : BitVec 32 := Scalar.addi v5827 c1_i32_3601
  let c256_i32_3602 : BitVec 32 := 256#32
  let v5829 : BitVec 32 := Scalar.muli v5828 c256_i32_3602
  let c123_i32_3603 : BitVec 32 := 123#32
  let v5830 : BitVec 32 := Scalar.addi v5829 c123_i32_3603
  let v5832 : Index := Scalar.indexCast v5830
  ![0, 0, v5832.toNat]
def k0_mult761 (v5833 : BitVec 32) : BitVec 32 :=
  v5833

def k0_mult762 (i : grid0.Coords) : BitVec 32 :=
  let arg1 : BitVec 32 := BitVec.ofNat 32 (i 1).val
  let c2_i32_3600 : BitVec 32 := 2#32
  let v5827 : BitVec 32 := Scalar.muli arg1 c2_i32_3600
  let c1_i32_3601 : BitVec 32 := 1#32
  let v5828 : BitVec 32 := Scalar.addi v5827 c1_i32_3601
  let c256_i32_3602 : BitVec 32 := 256#32
  let v5829 : BitVec 32 := Scalar.muli v5828 c256_i32_3602
  let c123_i32_3603 : BitVec 32 := 123#32
  let v5830 : BitVec 32 := Scalar.addi v5829 c123_i32_3603
  let c8_i32_3607 : BitVec 32 := 8#32
  let v5835 : BitVec 32 := Scalar.muli v5830 c8_i32_3607
  v5835
def k0_off1539 (i : grid0.Coords) : Fin 1 → Nat :=
  let c1_i32_3604 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5831 : BitVec 32 := Scalar.subi c1_i32_3604 v9
  ![v5831.toNat]
def k0_off1540 (i : grid0.Coords) : Fin 3 → Nat :=
  let c1_i32_3604 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5831 : BitVec 32 := Scalar.subi c1_i32_3604 v9
  let arg1 : BitVec 32 := BitVec.ofNat 32 (i 1).val
  let c2_i32_3600 : BitVec 32 := 2#32
  let v5827 : BitVec 32 := Scalar.muli arg1 c2_i32_3600
  let c1_i32_3601 : BitVec 32 := 1#32
  let v5828 : BitVec 32 := Scalar.addi v5827 c1_i32_3601
  let c256_i32_3602 : BitVec 32 := 256#32
  let v5829 : BitVec 32 := Scalar.muli v5828 c256_i32_3602
  let c123_i32_3603 : BitVec 32 := 123#32
  let v5830 : BitVec 32 := Scalar.addi v5829 c123_i32_3603
  let c8_i32_3607 : BitVec 32 := 8#32
  let v5835 : BitVec 32 := Scalar.muli v5830 c8_i32_3607
  let v5836 : BitVec 32 := v5835
  let c0_i32_3608 : BitVec 32 := 0#32
  ![v5831.toNat, v5836.toNat, 0]
def k0_off1541 (v5833 : BitVec 32) : Fin 2 → Nat :=
  let v5834 : BitVec 32 := v5833
  let c0_i32_3609 : BitVec 32 := 0#32
  ![v5834.toNat, 0]

def k0_chk381 (i : grid0.Coords) (v5833 : BitVec 32) : Prop :=
  (∀ (k0_h2 : k0_cond2 i = 1#1), 8 ∣ (k0_mult761 v5833).toNat) ∧
  (∀ (k0_h2 : k0_cond2 i = 1#1), ∀ a, (k0_off1541 v5833) a + S8x128.size a ≤ S131072x128.size a)
theorem k0_mult761_dvd : ∀ (i : grid0.Coords) (v5833 : BitVec 32) (k0_hw381 : k0_chk381 i v5833), ∀ (k0_h2 : k0_cond2 i = 1#1), 8 ∣ (k0_mult761 v5833).toNat := fun i v5833 k0_hw381 k0_h2 => k0_hw381.1 k0_h2
theorem k0_off1541_inb : ∀ (i : grid0.Coords) (v5833 : BitVec 32) (k0_hw381 : k0_chk381 i v5833), ∀ (k0_h2 : k0_cond2 i = 1#1), ∀ a, (k0_off1541 v5833) a + S8x128.size a ≤ S131072x128.size a := fun i v5833 k0_hw381 k0_h2 => k0_hw381.2 k0_h2

def k0_off1542 (i : grid0.Coords) : Fin 3 → Nat :=
  let c0_3615 : Index := 0#32
  let c0_3616 : Index := 0#32
  let arg1 : BitVec 32 := BitVec.ofNat 32 (i 1).val
  let c2_i32_3610 : BitVec 32 := 2#32
  let v5842 : BitVec 32 := Scalar.muli arg1 c2_i32_3610
  let c1_i32_3611 : BitVec 32 := 1#32
  let v5843 : BitVec 32 := Scalar.addi v5842 c1_i32_3611
  let c256_i32_3612 : BitVec 32 := 256#32
  let v5844 : BitVec 32 := Scalar.muli v5843 c256_i32_3612
  let c124_i32_3613 : BitVec 32 := 124#32
  let v5845 : BitVec 32 := Scalar.addi v5844 c124_i32_3613
  let v5847 : Index := Scalar.indexCast v5845
  ![0, 0, v5847.toNat]
def k0_mult763 (v5848 : BitVec 32) : BitVec 32 :=
  v5848

def k0_mult764 (i : grid0.Coords) : BitVec 32 :=
  let arg1 : BitVec 32 := BitVec.ofNat 32 (i 1).val
  let c2_i32_3610 : BitVec 32 := 2#32
  let v5842 : BitVec 32 := Scalar.muli arg1 c2_i32_3610
  let c1_i32_3611 : BitVec 32 := 1#32
  let v5843 : BitVec 32 := Scalar.addi v5842 c1_i32_3611
  let c256_i32_3612 : BitVec 32 := 256#32
  let v5844 : BitVec 32 := Scalar.muli v5843 c256_i32_3612
  let c124_i32_3613 : BitVec 32 := 124#32
  let v5845 : BitVec 32 := Scalar.addi v5844 c124_i32_3613
  let c8_i32_3617 : BitVec 32 := 8#32
  let v5850 : BitVec 32 := Scalar.muli v5845 c8_i32_3617
  v5850
def k0_off1543 (i : grid0.Coords) : Fin 1 → Nat :=
  let c1_i32_3614 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5846 : BitVec 32 := Scalar.subi c1_i32_3614 v9
  ![v5846.toNat]
def k0_off1544 (i : grid0.Coords) : Fin 3 → Nat :=
  let c1_i32_3614 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5846 : BitVec 32 := Scalar.subi c1_i32_3614 v9
  let arg1 : BitVec 32 := BitVec.ofNat 32 (i 1).val
  let c2_i32_3610 : BitVec 32 := 2#32
  let v5842 : BitVec 32 := Scalar.muli arg1 c2_i32_3610
  let c1_i32_3611 : BitVec 32 := 1#32
  let v5843 : BitVec 32 := Scalar.addi v5842 c1_i32_3611
  let c256_i32_3612 : BitVec 32 := 256#32
  let v5844 : BitVec 32 := Scalar.muli v5843 c256_i32_3612
  let c124_i32_3613 : BitVec 32 := 124#32
  let v5845 : BitVec 32 := Scalar.addi v5844 c124_i32_3613
  let c8_i32_3617 : BitVec 32 := 8#32
  let v5850 : BitVec 32 := Scalar.muli v5845 c8_i32_3617
  let v5851 : BitVec 32 := v5850
  let c0_i32_3618 : BitVec 32 := 0#32
  ![v5846.toNat, v5851.toNat, 0]
def k0_off1545 (v5848 : BitVec 32) : Fin 2 → Nat :=
  let v5849 : BitVec 32 := v5848
  let c0_i32_3619 : BitVec 32 := 0#32
  ![v5849.toNat, 0]

def k0_chk382 (i : grid0.Coords) (v5848 : BitVec 32) : Prop :=
  (∀ (k0_h2 : k0_cond2 i = 1#1), 8 ∣ (k0_mult763 v5848).toNat) ∧
  (∀ (k0_h2 : k0_cond2 i = 1#1), ∀ a, (k0_off1545 v5848) a + S8x128.size a ≤ S131072x128.size a)
theorem k0_mult763_dvd : ∀ (i : grid0.Coords) (v5848 : BitVec 32) (k0_hw382 : k0_chk382 i v5848), ∀ (k0_h2 : k0_cond2 i = 1#1), 8 ∣ (k0_mult763 v5848).toNat := fun i v5848 k0_hw382 k0_h2 => k0_hw382.1 k0_h2
theorem k0_off1545_inb : ∀ (i : grid0.Coords) (v5848 : BitVec 32) (k0_hw382 : k0_chk382 i v5848), ∀ (k0_h2 : k0_cond2 i = 1#1), ∀ a, (k0_off1545 v5848) a + S8x128.size a ≤ S131072x128.size a := fun i v5848 k0_hw382 k0_h2 => k0_hw382.2 k0_h2

def k0_off1546 (i : grid0.Coords) : Fin 3 → Nat :=
  let c0_3625 : Index := 0#32
  let c0_3626 : Index := 0#32
  let arg1 : BitVec 32 := BitVec.ofNat 32 (i 1).val
  let c2_i32_3620 : BitVec 32 := 2#32
  let v5857 : BitVec 32 := Scalar.muli arg1 c2_i32_3620
  let c1_i32_3621 : BitVec 32 := 1#32
  let v5858 : BitVec 32 := Scalar.addi v5857 c1_i32_3621
  let c256_i32_3622 : BitVec 32 := 256#32
  let v5859 : BitVec 32 := Scalar.muli v5858 c256_i32_3622
  let c125_i32_3623 : BitVec 32 := 125#32
  let v5860 : BitVec 32 := Scalar.addi v5859 c125_i32_3623
  let v5862 : Index := Scalar.indexCast v5860
  ![0, 0, v5862.toNat]
def k0_mult765 (v5863 : BitVec 32) : BitVec 32 :=
  v5863

def k0_mult766 (i : grid0.Coords) : BitVec 32 :=
  let arg1 : BitVec 32 := BitVec.ofNat 32 (i 1).val
  let c2_i32_3620 : BitVec 32 := 2#32
  let v5857 : BitVec 32 := Scalar.muli arg1 c2_i32_3620
  let c1_i32_3621 : BitVec 32 := 1#32
  let v5858 : BitVec 32 := Scalar.addi v5857 c1_i32_3621
  let c256_i32_3622 : BitVec 32 := 256#32
  let v5859 : BitVec 32 := Scalar.muli v5858 c256_i32_3622
  let c125_i32_3623 : BitVec 32 := 125#32
  let v5860 : BitVec 32 := Scalar.addi v5859 c125_i32_3623
  let c8_i32_3627 : BitVec 32 := 8#32
  let v5865 : BitVec 32 := Scalar.muli v5860 c8_i32_3627
  v5865
def k0_off1547 (i : grid0.Coords) : Fin 1 → Nat :=
  let c1_i32_3624 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5861 : BitVec 32 := Scalar.subi c1_i32_3624 v9
  ![v5861.toNat]
def k0_off1548 (i : grid0.Coords) : Fin 3 → Nat :=
  let c1_i32_3624 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5861 : BitVec 32 := Scalar.subi c1_i32_3624 v9
  let arg1 : BitVec 32 := BitVec.ofNat 32 (i 1).val
  let c2_i32_3620 : BitVec 32 := 2#32
  let v5857 : BitVec 32 := Scalar.muli arg1 c2_i32_3620
  let c1_i32_3621 : BitVec 32 := 1#32
  let v5858 : BitVec 32 := Scalar.addi v5857 c1_i32_3621
  let c256_i32_3622 : BitVec 32 := 256#32
  let v5859 : BitVec 32 := Scalar.muli v5858 c256_i32_3622
  let c125_i32_3623 : BitVec 32 := 125#32
  let v5860 : BitVec 32 := Scalar.addi v5859 c125_i32_3623
  let c8_i32_3627 : BitVec 32 := 8#32
  let v5865 : BitVec 32 := Scalar.muli v5860 c8_i32_3627
  let v5866 : BitVec 32 := v5865
  let c0_i32_3628 : BitVec 32 := 0#32
  ![v5861.toNat, v5866.toNat, 0]
def k0_off1549 (v5863 : BitVec 32) : Fin 2 → Nat :=
  let v5864 : BitVec 32 := v5863
  let c0_i32_3629 : BitVec 32 := 0#32
  ![v5864.toNat, 0]

def k0_chk383 (i : grid0.Coords) (v5863 : BitVec 32) : Prop :=
  (∀ (k0_h2 : k0_cond2 i = 1#1), 8 ∣ (k0_mult765 v5863).toNat) ∧
  (∀ (k0_h2 : k0_cond2 i = 1#1), ∀ a, (k0_off1549 v5863) a + S8x128.size a ≤ S131072x128.size a)
theorem k0_mult765_dvd : ∀ (i : grid0.Coords) (v5863 : BitVec 32) (k0_hw383 : k0_chk383 i v5863), ∀ (k0_h2 : k0_cond2 i = 1#1), 8 ∣ (k0_mult765 v5863).toNat := fun i v5863 k0_hw383 k0_h2 => k0_hw383.1 k0_h2
theorem k0_off1549_inb : ∀ (i : grid0.Coords) (v5863 : BitVec 32) (k0_hw383 : k0_chk383 i v5863), ∀ (k0_h2 : k0_cond2 i = 1#1), ∀ a, (k0_off1549 v5863) a + S8x128.size a ≤ S131072x128.size a := fun i v5863 k0_hw383 k0_h2 => k0_hw383.2 k0_h2

def k0_off1550 (i : grid0.Coords) : Fin 3 → Nat :=
  let c0_3635 : Index := 0#32
  let c0_3636 : Index := 0#32
  let arg1 : BitVec 32 := BitVec.ofNat 32 (i 1).val
  let c2_i32_3630 : BitVec 32 := 2#32
  let v5872 : BitVec 32 := Scalar.muli arg1 c2_i32_3630
  let c1_i32_3631 : BitVec 32 := 1#32
  let v5873 : BitVec 32 := Scalar.addi v5872 c1_i32_3631
  let c256_i32_3632 : BitVec 32 := 256#32
  let v5874 : BitVec 32 := Scalar.muli v5873 c256_i32_3632
  let c126_i32_3633 : BitVec 32 := 126#32
  let v5875 : BitVec 32 := Scalar.addi v5874 c126_i32_3633
  let v5877 : Index := Scalar.indexCast v5875
  ![0, 0, v5877.toNat]
def k0_mult767 (v5878 : BitVec 32) : BitVec 32 :=
  v5878

def k0_mult768 (i : grid0.Coords) : BitVec 32 :=
  let arg1 : BitVec 32 := BitVec.ofNat 32 (i 1).val
  let c2_i32_3630 : BitVec 32 := 2#32
  let v5872 : BitVec 32 := Scalar.muli arg1 c2_i32_3630
  let c1_i32_3631 : BitVec 32 := 1#32
  let v5873 : BitVec 32 := Scalar.addi v5872 c1_i32_3631
  let c256_i32_3632 : BitVec 32 := 256#32
  let v5874 : BitVec 32 := Scalar.muli v5873 c256_i32_3632
  let c126_i32_3633 : BitVec 32 := 126#32
  let v5875 : BitVec 32 := Scalar.addi v5874 c126_i32_3633
  let c8_i32_3637 : BitVec 32 := 8#32
  let v5880 : BitVec 32 := Scalar.muli v5875 c8_i32_3637
  v5880
def k0_off1551 (i : grid0.Coords) : Fin 1 → Nat :=
  let c1_i32_3634 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5876 : BitVec 32 := Scalar.subi c1_i32_3634 v9
  ![v5876.toNat]
def k0_off1552 (i : grid0.Coords) : Fin 3 → Nat :=
  let c1_i32_3634 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5876 : BitVec 32 := Scalar.subi c1_i32_3634 v9
  let arg1 : BitVec 32 := BitVec.ofNat 32 (i 1).val
  let c2_i32_3630 : BitVec 32 := 2#32
  let v5872 : BitVec 32 := Scalar.muli arg1 c2_i32_3630
  let c1_i32_3631 : BitVec 32 := 1#32
  let v5873 : BitVec 32 := Scalar.addi v5872 c1_i32_3631
  let c256_i32_3632 : BitVec 32 := 256#32
  let v5874 : BitVec 32 := Scalar.muli v5873 c256_i32_3632
  let c126_i32_3633 : BitVec 32 := 126#32
  let v5875 : BitVec 32 := Scalar.addi v5874 c126_i32_3633
  let c8_i32_3637 : BitVec 32 := 8#32
  let v5880 : BitVec 32 := Scalar.muli v5875 c8_i32_3637
  let v5881 : BitVec 32 := v5880
  let c0_i32_3638 : BitVec 32 := 0#32
  ![v5876.toNat, v5881.toNat, 0]
def k0_off1553 (v5878 : BitVec 32) : Fin 2 → Nat :=
  let v5879 : BitVec 32 := v5878
  let c0_i32_3639 : BitVec 32 := 0#32
  ![v5879.toNat, 0]

def k0_chk384 (i : grid0.Coords) (v5878 : BitVec 32) : Prop :=
  (∀ (k0_h2 : k0_cond2 i = 1#1), 8 ∣ (k0_mult767 v5878).toNat) ∧
  (∀ (k0_h2 : k0_cond2 i = 1#1), ∀ a, (k0_off1553 v5878) a + S8x128.size a ≤ S131072x128.size a)
theorem k0_mult767_dvd : ∀ (i : grid0.Coords) (v5878 : BitVec 32) (k0_hw384 : k0_chk384 i v5878), ∀ (k0_h2 : k0_cond2 i = 1#1), 8 ∣ (k0_mult767 v5878).toNat := fun i v5878 k0_hw384 k0_h2 => k0_hw384.1 k0_h2
theorem k0_off1553_inb : ∀ (i : grid0.Coords) (v5878 : BitVec 32) (k0_hw384 : k0_chk384 i v5878), ∀ (k0_h2 : k0_cond2 i = 1#1), ∀ a, (k0_off1553 v5878) a + S8x128.size a ≤ S131072x128.size a := fun i v5878 k0_hw384 k0_h2 => k0_hw384.2 k0_h2

def k0_off1554 (i : grid0.Coords) : Fin 3 → Nat :=
  let c0_3645 : Index := 0#32
  let c0_3646 : Index := 0#32
  let arg1 : BitVec 32 := BitVec.ofNat 32 (i 1).val
  let c2_i32_3640 : BitVec 32 := 2#32
  let v5887 : BitVec 32 := Scalar.muli arg1 c2_i32_3640
  let c1_i32_3641 : BitVec 32 := 1#32
  let v5888 : BitVec 32 := Scalar.addi v5887 c1_i32_3641
  let c256_i32_3642 : BitVec 32 := 256#32
  let v5889 : BitVec 32 := Scalar.muli v5888 c256_i32_3642
  let c127_i32_3643 : BitVec 32 := 127#32
  let v5890 : BitVec 32 := Scalar.addi v5889 c127_i32_3643
  let v5892 : Index := Scalar.indexCast v5890
  ![0, 0, v5892.toNat]
def k0_mult769 (v5893 : BitVec 32) : BitVec 32 :=
  v5893

def k0_mult770 (i : grid0.Coords) : BitVec 32 :=
  let arg1 : BitVec 32 := BitVec.ofNat 32 (i 1).val
  let c2_i32_3640 : BitVec 32 := 2#32
  let v5887 : BitVec 32 := Scalar.muli arg1 c2_i32_3640
  let c1_i32_3641 : BitVec 32 := 1#32
  let v5888 : BitVec 32 := Scalar.addi v5887 c1_i32_3641
  let c256_i32_3642 : BitVec 32 := 256#32
  let v5889 : BitVec 32 := Scalar.muli v5888 c256_i32_3642
  let c127_i32_3643 : BitVec 32 := 127#32
  let v5890 : BitVec 32 := Scalar.addi v5889 c127_i32_3643
  let c8_i32_3647 : BitVec 32 := 8#32
  let v5895 : BitVec 32 := Scalar.muli v5890 c8_i32_3647
  v5895
def k0_off1555 (i : grid0.Coords) : Fin 1 → Nat :=
  let c1_i32_3644 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5891 : BitVec 32 := Scalar.subi c1_i32_3644 v9
  ![v5891.toNat]
def k0_off1556 (i : grid0.Coords) : Fin 3 → Nat :=
  let c1_i32_3644 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5891 : BitVec 32 := Scalar.subi c1_i32_3644 v9
  let arg1 : BitVec 32 := BitVec.ofNat 32 (i 1).val
  let c2_i32_3640 : BitVec 32 := 2#32
  let v5887 : BitVec 32 := Scalar.muli arg1 c2_i32_3640
  let c1_i32_3641 : BitVec 32 := 1#32
  let v5888 : BitVec 32 := Scalar.addi v5887 c1_i32_3641
  let c256_i32_3642 : BitVec 32 := 256#32
  let v5889 : BitVec 32 := Scalar.muli v5888 c256_i32_3642
  let c127_i32_3643 : BitVec 32 := 127#32
  let v5890 : BitVec 32 := Scalar.addi v5889 c127_i32_3643
  let c8_i32_3647 : BitVec 32 := 8#32
  let v5895 : BitVec 32 := Scalar.muli v5890 c8_i32_3647
  let v5896 : BitVec 32 := v5895
  let c0_i32_3648 : BitVec 32 := 0#32
  ![v5891.toNat, v5896.toNat, 0]
def k0_off1557 (v5893 : BitVec 32) : Fin 2 → Nat :=
  let v5894 : BitVec 32 := v5893
  let c0_i32_3649 : BitVec 32 := 0#32
  ![v5894.toNat, 0]

def k0_chk385 (i : grid0.Coords) (v5893 : BitVec 32) : Prop :=
  (∀ (k0_h2 : k0_cond2 i = 1#1), 8 ∣ (k0_mult769 v5893).toNat) ∧
  (∀ (k0_h2 : k0_cond2 i = 1#1), ∀ a, (k0_off1557 v5893) a + S8x128.size a ≤ S131072x128.size a)
theorem k0_mult769_dvd : ∀ (i : grid0.Coords) (v5893 : BitVec 32) (k0_hw385 : k0_chk385 i v5893), ∀ (k0_h2 : k0_cond2 i = 1#1), 8 ∣ (k0_mult769 v5893).toNat := fun i v5893 k0_hw385 k0_h2 => k0_hw385.1 k0_h2
theorem k0_off1557_inb : ∀ (i : grid0.Coords) (v5893 : BitVec 32) (k0_hw385 : k0_chk385 i v5893), ∀ (k0_h2 : k0_cond2 i = 1#1), ∀ a, (k0_off1557 v5893) a + S8x128.size a ≤ S131072x128.size a := fun i v5893 k0_hw385 k0_h2 => k0_hw385.2 k0_h2

def k0_off1558 (i : grid0.Coords) : Fin 3 → Nat :=
  let c0_3655 : Index := 0#32
  let c0_3656 : Index := 0#32
  let arg1 : BitVec 32 := BitVec.ofNat 32 (i 1).val
  let c2_i32_3650 : BitVec 32 := 2#32
  let v5902 : BitVec 32 := Scalar.muli arg1 c2_i32_3650
  let c1_i32_3651 : BitVec 32 := 1#32
  let v5903 : BitVec 32 := Scalar.addi v5902 c1_i32_3651
  let c256_i32_3652 : BitVec 32 := 256#32
  let v5904 : BitVec 32 := Scalar.muli v5903 c256_i32_3652
  let c128_i32_3653 : BitVec 32 := 128#32
  let v5905 : BitVec 32 := Scalar.addi v5904 c128_i32_3653
  let v5907 : Index := Scalar.indexCast v5905
  ![0, 0, v5907.toNat]
def k0_mult771 (v5908 : BitVec 32) : BitVec 32 :=
  v5908

def k0_mult772 (i : grid0.Coords) : BitVec 32 :=
  let arg1 : BitVec 32 := BitVec.ofNat 32 (i 1).val
  let c2_i32_3650 : BitVec 32 := 2#32
  let v5902 : BitVec 32 := Scalar.muli arg1 c2_i32_3650
  let c1_i32_3651 : BitVec 32 := 1#32
  let v5903 : BitVec 32 := Scalar.addi v5902 c1_i32_3651
  let c256_i32_3652 : BitVec 32 := 256#32
  let v5904 : BitVec 32 := Scalar.muli v5903 c256_i32_3652
  let c128_i32_3653 : BitVec 32 := 128#32
  let v5905 : BitVec 32 := Scalar.addi v5904 c128_i32_3653
  let c8_i32_3657 : BitVec 32 := 8#32
  let v5910 : BitVec 32 := Scalar.muli v5905 c8_i32_3657
  v5910
def k0_off1559 (i : grid0.Coords) : Fin 1 → Nat :=
  let c1_i32_3654 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5906 : BitVec 32 := Scalar.subi c1_i32_3654 v9
  ![v5906.toNat]
def k0_off1560 (i : grid0.Coords) : Fin 3 → Nat :=
  let c1_i32_3654 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5906 : BitVec 32 := Scalar.subi c1_i32_3654 v9
  let arg1 : BitVec 32 := BitVec.ofNat 32 (i 1).val
  let c2_i32_3650 : BitVec 32 := 2#32
  let v5902 : BitVec 32 := Scalar.muli arg1 c2_i32_3650
  let c1_i32_3651 : BitVec 32 := 1#32
  let v5903 : BitVec 32 := Scalar.addi v5902 c1_i32_3651
  let c256_i32_3652 : BitVec 32 := 256#32
  let v5904 : BitVec 32 := Scalar.muli v5903 c256_i32_3652
  let c128_i32_3653 : BitVec 32 := 128#32
  let v5905 : BitVec 32 := Scalar.addi v5904 c128_i32_3653
  let c8_i32_3657 : BitVec 32 := 8#32
  let v5910 : BitVec 32 := Scalar.muli v5905 c8_i32_3657
  let v5911 : BitVec 32 := v5910
  let c0_i32_3658 : BitVec 32 := 0#32
  ![v5906.toNat, v5911.toNat, 0]
def k0_off1561 (v5908 : BitVec 32) : Fin 2 → Nat :=
  let v5909 : BitVec 32 := v5908
  let c0_i32_3659 : BitVec 32 := 0#32
  ![v5909.toNat, 0]

def k0_chk386 (i : grid0.Coords) (v5908 : BitVec 32) : Prop :=
  (∀ (k0_h2 : k0_cond2 i = 1#1), 8 ∣ (k0_mult771 v5908).toNat) ∧
  (∀ (k0_h2 : k0_cond2 i = 1#1), ∀ a, (k0_off1561 v5908) a + S8x128.size a ≤ S131072x128.size a)
theorem k0_mult771_dvd : ∀ (i : grid0.Coords) (v5908 : BitVec 32) (k0_hw386 : k0_chk386 i v5908), ∀ (k0_h2 : k0_cond2 i = 1#1), 8 ∣ (k0_mult771 v5908).toNat := fun i v5908 k0_hw386 k0_h2 => k0_hw386.1 k0_h2
theorem k0_off1561_inb : ∀ (i : grid0.Coords) (v5908 : BitVec 32) (k0_hw386 : k0_chk386 i v5908), ∀ (k0_h2 : k0_cond2 i = 1#1), ∀ a, (k0_off1561 v5908) a + S8x128.size a ≤ S131072x128.size a := fun i v5908 k0_hw386 k0_h2 => k0_hw386.2 k0_h2

def k0_off1562 (i : grid0.Coords) : Fin 3 → Nat :=
  let c0_3665 : Index := 0#32
  let c0_3666 : Index := 0#32
  let arg1 : BitVec 32 := BitVec.ofNat 32 (i 1).val
  let c2_i32_3660 : BitVec 32 := 2#32
  let v5917 : BitVec 32 := Scalar.muli arg1 c2_i32_3660
  let c1_i32_3661 : BitVec 32 := 1#32
  let v5918 : BitVec 32 := Scalar.addi v5917 c1_i32_3661
  let c256_i32_3662 : BitVec 32 := 256#32
  let v5919 : BitVec 32 := Scalar.muli v5918 c256_i32_3662
  let c129_i32_3663 : BitVec 32 := 129#32
  let v5920 : BitVec 32 := Scalar.addi v5919 c129_i32_3663
  let v5922 : Index := Scalar.indexCast v5920
  ![0, 0, v5922.toNat]
def k0_mult773 (v5923 : BitVec 32) : BitVec 32 :=
  v5923

def k0_mult774 (i : grid0.Coords) : BitVec 32 :=
  let arg1 : BitVec 32 := BitVec.ofNat 32 (i 1).val
  let c2_i32_3660 : BitVec 32 := 2#32
  let v5917 : BitVec 32 := Scalar.muli arg1 c2_i32_3660
  let c1_i32_3661 : BitVec 32 := 1#32
  let v5918 : BitVec 32 := Scalar.addi v5917 c1_i32_3661
  let c256_i32_3662 : BitVec 32 := 256#32
  let v5919 : BitVec 32 := Scalar.muli v5918 c256_i32_3662
  let c129_i32_3663 : BitVec 32 := 129#32
  let v5920 : BitVec 32 := Scalar.addi v5919 c129_i32_3663
  let c8_i32_3667 : BitVec 32 := 8#32
  let v5925 : BitVec 32 := Scalar.muli v5920 c8_i32_3667
  v5925
def k0_off1563 (i : grid0.Coords) : Fin 1 → Nat :=
  let c1_i32_3664 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5921 : BitVec 32 := Scalar.subi c1_i32_3664 v9
  ![v5921.toNat]
def k0_off1564 (i : grid0.Coords) : Fin 3 → Nat :=
  let c1_i32_3664 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5921 : BitVec 32 := Scalar.subi c1_i32_3664 v9
  let arg1 : BitVec 32 := BitVec.ofNat 32 (i 1).val
  let c2_i32_3660 : BitVec 32 := 2#32
  let v5917 : BitVec 32 := Scalar.muli arg1 c2_i32_3660
  let c1_i32_3661 : BitVec 32 := 1#32
  let v5918 : BitVec 32 := Scalar.addi v5917 c1_i32_3661
  let c256_i32_3662 : BitVec 32 := 256#32
  let v5919 : BitVec 32 := Scalar.muli v5918 c256_i32_3662
  let c129_i32_3663 : BitVec 32 := 129#32
  let v5920 : BitVec 32 := Scalar.addi v5919 c129_i32_3663
  let c8_i32_3667 : BitVec 32 := 8#32
  let v5925 : BitVec 32 := Scalar.muli v5920 c8_i32_3667
  let v5926 : BitVec 32 := v5925
  let c0_i32_3668 : BitVec 32 := 0#32
  ![v5921.toNat, v5926.toNat, 0]
def k0_off1565 (v5923 : BitVec 32) : Fin 2 → Nat :=
  let v5924 : BitVec 32 := v5923
  let c0_i32_3669 : BitVec 32 := 0#32
  ![v5924.toNat, 0]

def k0_chk387 (i : grid0.Coords) (v5923 : BitVec 32) : Prop :=
  (∀ (k0_h2 : k0_cond2 i = 1#1), 8 ∣ (k0_mult773 v5923).toNat) ∧
  (∀ (k0_h2 : k0_cond2 i = 1#1), ∀ a, (k0_off1565 v5923) a + S8x128.size a ≤ S131072x128.size a)
theorem k0_mult773_dvd : ∀ (i : grid0.Coords) (v5923 : BitVec 32) (k0_hw387 : k0_chk387 i v5923), ∀ (k0_h2 : k0_cond2 i = 1#1), 8 ∣ (k0_mult773 v5923).toNat := fun i v5923 k0_hw387 k0_h2 => k0_hw387.1 k0_h2
theorem k0_off1565_inb : ∀ (i : grid0.Coords) (v5923 : BitVec 32) (k0_hw387 : k0_chk387 i v5923), ∀ (k0_h2 : k0_cond2 i = 1#1), ∀ a, (k0_off1565 v5923) a + S8x128.size a ≤ S131072x128.size a := fun i v5923 k0_hw387 k0_h2 => k0_hw387.2 k0_h2

def k0_off1566 (i : grid0.Coords) : Fin 3 → Nat :=
  let c0_3675 : Index := 0#32
  let c0_3676 : Index := 0#32
  let arg1 : BitVec 32 := BitVec.ofNat 32 (i 1).val
  let c2_i32_3670 : BitVec 32 := 2#32
  let v5932 : BitVec 32 := Scalar.muli arg1 c2_i32_3670
  let c1_i32_3671 : BitVec 32 := 1#32
  let v5933 : BitVec 32 := Scalar.addi v5932 c1_i32_3671
  let c256_i32_3672 : BitVec 32 := 256#32
  let v5934 : BitVec 32 := Scalar.muli v5933 c256_i32_3672
  let c130_i32_3673 : BitVec 32 := 130#32
  let v5935 : BitVec 32 := Scalar.addi v5934 c130_i32_3673
  let v5937 : Index := Scalar.indexCast v5935
  ![0, 0, v5937.toNat]
def k0_mult775 (v5938 : BitVec 32) : BitVec 32 :=
  v5938

def k0_mult776 (i : grid0.Coords) : BitVec 32 :=
  let arg1 : BitVec 32 := BitVec.ofNat 32 (i 1).val
  let c2_i32_3670 : BitVec 32 := 2#32
  let v5932 : BitVec 32 := Scalar.muli arg1 c2_i32_3670
  let c1_i32_3671 : BitVec 32 := 1#32
  let v5933 : BitVec 32 := Scalar.addi v5932 c1_i32_3671
  let c256_i32_3672 : BitVec 32 := 256#32
  let v5934 : BitVec 32 := Scalar.muli v5933 c256_i32_3672
  let c130_i32_3673 : BitVec 32 := 130#32
  let v5935 : BitVec 32 := Scalar.addi v5934 c130_i32_3673
  let c8_i32_3677 : BitVec 32 := 8#32
  let v5940 : BitVec 32 := Scalar.muli v5935 c8_i32_3677
  v5940
def k0_off1567 (i : grid0.Coords) : Fin 1 → Nat :=
  let c1_i32_3674 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5936 : BitVec 32 := Scalar.subi c1_i32_3674 v9
  ![v5936.toNat]
def k0_off1568 (i : grid0.Coords) : Fin 3 → Nat :=
  let c1_i32_3674 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5936 : BitVec 32 := Scalar.subi c1_i32_3674 v9
  let arg1 : BitVec 32 := BitVec.ofNat 32 (i 1).val
  let c2_i32_3670 : BitVec 32 := 2#32
  let v5932 : BitVec 32 := Scalar.muli arg1 c2_i32_3670
  let c1_i32_3671 : BitVec 32 := 1#32
  let v5933 : BitVec 32 := Scalar.addi v5932 c1_i32_3671
  let c256_i32_3672 : BitVec 32 := 256#32
  let v5934 : BitVec 32 := Scalar.muli v5933 c256_i32_3672
  let c130_i32_3673 : BitVec 32 := 130#32
  let v5935 : BitVec 32 := Scalar.addi v5934 c130_i32_3673
  let c8_i32_3677 : BitVec 32 := 8#32
  let v5940 : BitVec 32 := Scalar.muli v5935 c8_i32_3677
  let v5941 : BitVec 32 := v5940
  let c0_i32_3678 : BitVec 32 := 0#32
  ![v5936.toNat, v5941.toNat, 0]
def k0_off1569 (v5938 : BitVec 32) : Fin 2 → Nat :=
  let v5939 : BitVec 32 := v5938
  let c0_i32_3679 : BitVec 32 := 0#32
  ![v5939.toNat, 0]

def k0_chk388 (i : grid0.Coords) (v5938 : BitVec 32) : Prop :=
  (∀ (k0_h2 : k0_cond2 i = 1#1), 8 ∣ (k0_mult775 v5938).toNat) ∧
  (∀ (k0_h2 : k0_cond2 i = 1#1), ∀ a, (k0_off1569 v5938) a + S8x128.size a ≤ S131072x128.size a)
theorem k0_mult775_dvd : ∀ (i : grid0.Coords) (v5938 : BitVec 32) (k0_hw388 : k0_chk388 i v5938), ∀ (k0_h2 : k0_cond2 i = 1#1), 8 ∣ (k0_mult775 v5938).toNat := fun i v5938 k0_hw388 k0_h2 => k0_hw388.1 k0_h2
theorem k0_off1569_inb : ∀ (i : grid0.Coords) (v5938 : BitVec 32) (k0_hw388 : k0_chk388 i v5938), ∀ (k0_h2 : k0_cond2 i = 1#1), ∀ a, (k0_off1569 v5938) a + S8x128.size a ≤ S131072x128.size a := fun i v5938 k0_hw388 k0_h2 => k0_hw388.2 k0_h2

def k0_off1570 (i : grid0.Coords) : Fin 3 → Nat :=
  let c0_3685 : Index := 0#32
  let c0_3686 : Index := 0#32
  let arg1 : BitVec 32 := BitVec.ofNat 32 (i 1).val
  let c2_i32_3680 : BitVec 32 := 2#32
  let v5947 : BitVec 32 := Scalar.muli arg1 c2_i32_3680
  let c1_i32_3681 : BitVec 32 := 1#32
  let v5948 : BitVec 32 := Scalar.addi v5947 c1_i32_3681
  let c256_i32_3682 : BitVec 32 := 256#32
  let v5949 : BitVec 32 := Scalar.muli v5948 c256_i32_3682
  let c131_i32_3683 : BitVec 32 := 131#32
  let v5950 : BitVec 32 := Scalar.addi v5949 c131_i32_3683
  let v5952 : Index := Scalar.indexCast v5950
  ![0, 0, v5952.toNat]
def k0_mult777 (v5953 : BitVec 32) : BitVec 32 :=
  v5953

def k0_mult778 (i : grid0.Coords) : BitVec 32 :=
  let arg1 : BitVec 32 := BitVec.ofNat 32 (i 1).val
  let c2_i32_3680 : BitVec 32 := 2#32
  let v5947 : BitVec 32 := Scalar.muli arg1 c2_i32_3680
  let c1_i32_3681 : BitVec 32 := 1#32
  let v5948 : BitVec 32 := Scalar.addi v5947 c1_i32_3681
  let c256_i32_3682 : BitVec 32 := 256#32
  let v5949 : BitVec 32 := Scalar.muli v5948 c256_i32_3682
  let c131_i32_3683 : BitVec 32 := 131#32
  let v5950 : BitVec 32 := Scalar.addi v5949 c131_i32_3683
  let c8_i32_3687 : BitVec 32 := 8#32
  let v5955 : BitVec 32 := Scalar.muli v5950 c8_i32_3687
  v5955
def k0_off1571 (i : grid0.Coords) : Fin 1 → Nat :=
  let c1_i32_3684 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5951 : BitVec 32 := Scalar.subi c1_i32_3684 v9
  ![v5951.toNat]
def k0_off1572 (i : grid0.Coords) : Fin 3 → Nat :=
  let c1_i32_3684 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5951 : BitVec 32 := Scalar.subi c1_i32_3684 v9
  let arg1 : BitVec 32 := BitVec.ofNat 32 (i 1).val
  let c2_i32_3680 : BitVec 32 := 2#32
  let v5947 : BitVec 32 := Scalar.muli arg1 c2_i32_3680
  let c1_i32_3681 : BitVec 32 := 1#32
  let v5948 : BitVec 32 := Scalar.addi v5947 c1_i32_3681
  let c256_i32_3682 : BitVec 32 := 256#32
  let v5949 : BitVec 32 := Scalar.muli v5948 c256_i32_3682
  let c131_i32_3683 : BitVec 32 := 131#32
  let v5950 : BitVec 32 := Scalar.addi v5949 c131_i32_3683
  let c8_i32_3687 : BitVec 32 := 8#32
  let v5955 : BitVec 32 := Scalar.muli v5950 c8_i32_3687
  let v5956 : BitVec 32 := v5955
  let c0_i32_3688 : BitVec 32 := 0#32
  ![v5951.toNat, v5956.toNat, 0]
def k0_off1573 (v5953 : BitVec 32) : Fin 2 → Nat :=
  let v5954 : BitVec 32 := v5953
  let c0_i32_3689 : BitVec 32 := 0#32
  ![v5954.toNat, 0]

def k0_chk389 (i : grid0.Coords) (v5953 : BitVec 32) : Prop :=
  (∀ (k0_h2 : k0_cond2 i = 1#1), 8 ∣ (k0_mult777 v5953).toNat) ∧
  (∀ (k0_h2 : k0_cond2 i = 1#1), ∀ a, (k0_off1573 v5953) a + S8x128.size a ≤ S131072x128.size a)
theorem k0_mult777_dvd : ∀ (i : grid0.Coords) (v5953 : BitVec 32) (k0_hw389 : k0_chk389 i v5953), ∀ (k0_h2 : k0_cond2 i = 1#1), 8 ∣ (k0_mult777 v5953).toNat := fun i v5953 k0_hw389 k0_h2 => k0_hw389.1 k0_h2
theorem k0_off1573_inb : ∀ (i : grid0.Coords) (v5953 : BitVec 32) (k0_hw389 : k0_chk389 i v5953), ∀ (k0_h2 : k0_cond2 i = 1#1), ∀ a, (k0_off1573 v5953) a + S8x128.size a ≤ S131072x128.size a := fun i v5953 k0_hw389 k0_h2 => k0_hw389.2 k0_h2

def k0_off1574 (i : grid0.Coords) : Fin 3 → Nat :=
  let c0_3695 : Index := 0#32
  let c0_3696 : Index := 0#32
  let arg1 : BitVec 32 := BitVec.ofNat 32 (i 1).val
  let c2_i32_3690 : BitVec 32 := 2#32
  let v5962 : BitVec 32 := Scalar.muli arg1 c2_i32_3690
  let c1_i32_3691 : BitVec 32 := 1#32
  let v5963 : BitVec 32 := Scalar.addi v5962 c1_i32_3691
  let c256_i32_3692 : BitVec 32 := 256#32
  let v5964 : BitVec 32 := Scalar.muli v5963 c256_i32_3692
  let c132_i32_3693 : BitVec 32 := 132#32
  let v5965 : BitVec 32 := Scalar.addi v5964 c132_i32_3693
  let v5967 : Index := Scalar.indexCast v5965
  ![0, 0, v5967.toNat]
def k0_mult779 (v5968 : BitVec 32) : BitVec 32 :=
  v5968

def k0_mult780 (i : grid0.Coords) : BitVec 32 :=
  let arg1 : BitVec 32 := BitVec.ofNat 32 (i 1).val
  let c2_i32_3690 : BitVec 32 := 2#32
  let v5962 : BitVec 32 := Scalar.muli arg1 c2_i32_3690
  let c1_i32_3691 : BitVec 32 := 1#32
  let v5963 : BitVec 32 := Scalar.addi v5962 c1_i32_3691
  let c256_i32_3692 : BitVec 32 := 256#32
  let v5964 : BitVec 32 := Scalar.muli v5963 c256_i32_3692
  let c132_i32_3693 : BitVec 32 := 132#32
  let v5965 : BitVec 32 := Scalar.addi v5964 c132_i32_3693
  let c8_i32_3697 : BitVec 32 := 8#32
  let v5970 : BitVec 32 := Scalar.muli v5965 c8_i32_3697
  v5970
def k0_off1575 (i : grid0.Coords) : Fin 1 → Nat :=
  let c1_i32_3694 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5966 : BitVec 32 := Scalar.subi c1_i32_3694 v9
  ![v5966.toNat]
def k0_off1576 (i : grid0.Coords) : Fin 3 → Nat :=
  let c1_i32_3694 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5966 : BitVec 32 := Scalar.subi c1_i32_3694 v9
  let arg1 : BitVec 32 := BitVec.ofNat 32 (i 1).val
  let c2_i32_3690 : BitVec 32 := 2#32
  let v5962 : BitVec 32 := Scalar.muli arg1 c2_i32_3690
  let c1_i32_3691 : BitVec 32 := 1#32
  let v5963 : BitVec 32 := Scalar.addi v5962 c1_i32_3691
  let c256_i32_3692 : BitVec 32 := 256#32
  let v5964 : BitVec 32 := Scalar.muli v5963 c256_i32_3692
  let c132_i32_3693 : BitVec 32 := 132#32
  let v5965 : BitVec 32 := Scalar.addi v5964 c132_i32_3693
  let c8_i32_3697 : BitVec 32 := 8#32
  let v5970 : BitVec 32 := Scalar.muli v5965 c8_i32_3697
  let v5971 : BitVec 32 := v5970
  let c0_i32_3698 : BitVec 32 := 0#32
  ![v5966.toNat, v5971.toNat, 0]
def k0_off1577 (v5968 : BitVec 32) : Fin 2 → Nat :=
  let v5969 : BitVec 32 := v5968
  let c0_i32_3699 : BitVec 32 := 0#32
  ![v5969.toNat, 0]

def k0_chk390 (i : grid0.Coords) (v5968 : BitVec 32) : Prop :=
  (∀ (k0_h2 : k0_cond2 i = 1#1), 8 ∣ (k0_mult779 v5968).toNat) ∧
  (∀ (k0_h2 : k0_cond2 i = 1#1), ∀ a, (k0_off1577 v5968) a + S8x128.size a ≤ S131072x128.size a)
theorem k0_mult779_dvd : ∀ (i : grid0.Coords) (v5968 : BitVec 32) (k0_hw390 : k0_chk390 i v5968), ∀ (k0_h2 : k0_cond2 i = 1#1), 8 ∣ (k0_mult779 v5968).toNat := fun i v5968 k0_hw390 k0_h2 => k0_hw390.1 k0_h2
theorem k0_off1577_inb : ∀ (i : grid0.Coords) (v5968 : BitVec 32) (k0_hw390 : k0_chk390 i v5968), ∀ (k0_h2 : k0_cond2 i = 1#1), ∀ a, (k0_off1577 v5968) a + S8x128.size a ≤ S131072x128.size a := fun i v5968 k0_hw390 k0_h2 => k0_hw390.2 k0_h2

def k0_off1578 (i : grid0.Coords) : Fin 3 → Nat :=
  let c0_3705 : Index := 0#32
  let c0_3706 : Index := 0#32
  let arg1 : BitVec 32 := BitVec.ofNat 32 (i 1).val
  let c2_i32_3700 : BitVec 32 := 2#32
  let v5977 : BitVec 32 := Scalar.muli arg1 c2_i32_3700
  let c1_i32_3701 : BitVec 32 := 1#32
  let v5978 : BitVec 32 := Scalar.addi v5977 c1_i32_3701
  let c256_i32_3702 : BitVec 32 := 256#32
  let v5979 : BitVec 32 := Scalar.muli v5978 c256_i32_3702
  let c133_i32_3703 : BitVec 32 := 133#32
  let v5980 : BitVec 32 := Scalar.addi v5979 c133_i32_3703
  let v5982 : Index := Scalar.indexCast v5980
  ![0, 0, v5982.toNat]
def k0_mult781 (v5983 : BitVec 32) : BitVec 32 :=
  v5983

def k0_mult782 (i : grid0.Coords) : BitVec 32 :=
  let arg1 : BitVec 32 := BitVec.ofNat 32 (i 1).val
  let c2_i32_3700 : BitVec 32 := 2#32
  let v5977 : BitVec 32 := Scalar.muli arg1 c2_i32_3700
  let c1_i32_3701 : BitVec 32 := 1#32
  let v5978 : BitVec 32 := Scalar.addi v5977 c1_i32_3701
  let c256_i32_3702 : BitVec 32 := 256#32
  let v5979 : BitVec 32 := Scalar.muli v5978 c256_i32_3702
  let c133_i32_3703 : BitVec 32 := 133#32
  let v5980 : BitVec 32 := Scalar.addi v5979 c133_i32_3703
  let c8_i32_3707 : BitVec 32 := 8#32
  let v5985 : BitVec 32 := Scalar.muli v5980 c8_i32_3707
  v5985
def k0_off1579 (i : grid0.Coords) : Fin 1 → Nat :=
  let c1_i32_3704 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5981 : BitVec 32 := Scalar.subi c1_i32_3704 v9
  ![v5981.toNat]
def k0_off1580 (i : grid0.Coords) : Fin 3 → Nat :=
  let c1_i32_3704 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5981 : BitVec 32 := Scalar.subi c1_i32_3704 v9
  let arg1 : BitVec 32 := BitVec.ofNat 32 (i 1).val
  let c2_i32_3700 : BitVec 32 := 2#32
  let v5977 : BitVec 32 := Scalar.muli arg1 c2_i32_3700
  let c1_i32_3701 : BitVec 32 := 1#32
  let v5978 : BitVec 32 := Scalar.addi v5977 c1_i32_3701
  let c256_i32_3702 : BitVec 32 := 256#32
  let v5979 : BitVec 32 := Scalar.muli v5978 c256_i32_3702
  let c133_i32_3703 : BitVec 32 := 133#32
  let v5980 : BitVec 32 := Scalar.addi v5979 c133_i32_3703
  let c8_i32_3707 : BitVec 32 := 8#32
  let v5985 : BitVec 32 := Scalar.muli v5980 c8_i32_3707
  let v5986 : BitVec 32 := v5985
  let c0_i32_3708 : BitVec 32 := 0#32
  ![v5981.toNat, v5986.toNat, 0]
def k0_off1581 (v5983 : BitVec 32) : Fin 2 → Nat :=
  let v5984 : BitVec 32 := v5983
  let c0_i32_3709 : BitVec 32 := 0#32
  ![v5984.toNat, 0]

def k0_chk391 (i : grid0.Coords) (v5983 : BitVec 32) : Prop :=
  (∀ (k0_h2 : k0_cond2 i = 1#1), 8 ∣ (k0_mult781 v5983).toNat) ∧
  (∀ (k0_h2 : k0_cond2 i = 1#1), ∀ a, (k0_off1581 v5983) a + S8x128.size a ≤ S131072x128.size a)
theorem k0_mult781_dvd : ∀ (i : grid0.Coords) (v5983 : BitVec 32) (k0_hw391 : k0_chk391 i v5983), ∀ (k0_h2 : k0_cond2 i = 1#1), 8 ∣ (k0_mult781 v5983).toNat := fun i v5983 k0_hw391 k0_h2 => k0_hw391.1 k0_h2
theorem k0_off1581_inb : ∀ (i : grid0.Coords) (v5983 : BitVec 32) (k0_hw391 : k0_chk391 i v5983), ∀ (k0_h2 : k0_cond2 i = 1#1), ∀ a, (k0_off1581 v5983) a + S8x128.size a ≤ S131072x128.size a := fun i v5983 k0_hw391 k0_h2 => k0_hw391.2 k0_h2

def k0_off1582 (i : grid0.Coords) : Fin 3 → Nat :=
  let c0_3715 : Index := 0#32
  let c0_3716 : Index := 0#32
  let arg1 : BitVec 32 := BitVec.ofNat 32 (i 1).val
  let c2_i32_3710 : BitVec 32 := 2#32
  let v5992 : BitVec 32 := Scalar.muli arg1 c2_i32_3710
  let c1_i32_3711 : BitVec 32 := 1#32
  let v5993 : BitVec 32 := Scalar.addi v5992 c1_i32_3711
  let c256_i32_3712 : BitVec 32 := 256#32
  let v5994 : BitVec 32 := Scalar.muli v5993 c256_i32_3712
  let c134_i32_3713 : BitVec 32 := 134#32
  let v5995 : BitVec 32 := Scalar.addi v5994 c134_i32_3713
  let v5997 : Index := Scalar.indexCast v5995
  ![0, 0, v5997.toNat]
def k0_mult783 (v5998 : BitVec 32) : BitVec 32 :=
  v5998

def k0_mult784 (i : grid0.Coords) : BitVec 32 :=
  let arg1 : BitVec 32 := BitVec.ofNat 32 (i 1).val
  let c2_i32_3710 : BitVec 32 := 2#32
  let v5992 : BitVec 32 := Scalar.muli arg1 c2_i32_3710
  let c1_i32_3711 : BitVec 32 := 1#32
  let v5993 : BitVec 32 := Scalar.addi v5992 c1_i32_3711
  let c256_i32_3712 : BitVec 32 := 256#32
  let v5994 : BitVec 32 := Scalar.muli v5993 c256_i32_3712
  let c134_i32_3713 : BitVec 32 := 134#32
  let v5995 : BitVec 32 := Scalar.addi v5994 c134_i32_3713
  let c8_i32_3717 : BitVec 32 := 8#32
  let v6000 : BitVec 32 := Scalar.muli v5995 c8_i32_3717
  v6000
def k0_off1583 (i : grid0.Coords) : Fin 1 → Nat :=
  let c1_i32_3714 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5996 : BitVec 32 := Scalar.subi c1_i32_3714 v9
  ![v5996.toNat]
def k0_off1584 (i : grid0.Coords) : Fin 3 → Nat :=
  let c1_i32_3714 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5996 : BitVec 32 := Scalar.subi c1_i32_3714 v9
  let arg1 : BitVec 32 := BitVec.ofNat 32 (i 1).val
  let c2_i32_3710 : BitVec 32 := 2#32
  let v5992 : BitVec 32 := Scalar.muli arg1 c2_i32_3710
  let c1_i32_3711 : BitVec 32 := 1#32
  let v5993 : BitVec 32 := Scalar.addi v5992 c1_i32_3711
  let c256_i32_3712 : BitVec 32 := 256#32
  let v5994 : BitVec 32 := Scalar.muli v5993 c256_i32_3712
  let c134_i32_3713 : BitVec 32 := 134#32
  let v5995 : BitVec 32 := Scalar.addi v5994 c134_i32_3713
  let c8_i32_3717 : BitVec 32 := 8#32
  let v6000 : BitVec 32 := Scalar.muli v5995 c8_i32_3717
  let v6001 : BitVec 32 := v6000
  let c0_i32_3718 : BitVec 32 := 0#32
  ![v5996.toNat, v6001.toNat, 0]
def k0_off1585 (v5998 : BitVec 32) : Fin 2 → Nat :=
  let v5999 : BitVec 32 := v5998
  let c0_i32_3719 : BitVec 32 := 0#32
  ![v5999.toNat, 0]

def k0_chk392 (i : grid0.Coords) (v5998 : BitVec 32) : Prop :=
  (∀ (k0_h2 : k0_cond2 i = 1#1), 8 ∣ (k0_mult783 v5998).toNat) ∧
  (∀ (k0_h2 : k0_cond2 i = 1#1), ∀ a, (k0_off1585 v5998) a + S8x128.size a ≤ S131072x128.size a)
theorem k0_mult783_dvd : ∀ (i : grid0.Coords) (v5998 : BitVec 32) (k0_hw392 : k0_chk392 i v5998), ∀ (k0_h2 : k0_cond2 i = 1#1), 8 ∣ (k0_mult783 v5998).toNat := fun i v5998 k0_hw392 k0_h2 => k0_hw392.1 k0_h2
theorem k0_off1585_inb : ∀ (i : grid0.Coords) (v5998 : BitVec 32) (k0_hw392 : k0_chk392 i v5998), ∀ (k0_h2 : k0_cond2 i = 1#1), ∀ a, (k0_off1585 v5998) a + S8x128.size a ≤ S131072x128.size a := fun i v5998 k0_hw392 k0_h2 => k0_hw392.2 k0_h2

def k0_off1586 (i : grid0.Coords) : Fin 3 → Nat :=
  let c0_3725 : Index := 0#32
  let c0_3726 : Index := 0#32
  let arg1 : BitVec 32 := BitVec.ofNat 32 (i 1).val
  let c2_i32_3720 : BitVec 32 := 2#32
  let v6007 : BitVec 32 := Scalar.muli arg1 c2_i32_3720
  let c1_i32_3721 : BitVec 32 := 1#32
  let v6008 : BitVec 32 := Scalar.addi v6007 c1_i32_3721
  let c256_i32_3722 : BitVec 32 := 256#32
  let v6009 : BitVec 32 := Scalar.muli v6008 c256_i32_3722
  let c135_i32_3723 : BitVec 32 := 135#32
  let v6010 : BitVec 32 := Scalar.addi v6009 c135_i32_3723
  let v6012 : Index := Scalar.indexCast v6010
  ![0, 0, v6012.toNat]
def k0_mult785 (v6013 : BitVec 32) : BitVec 32 :=
  v6013

def k0_mult786 (i : grid0.Coords) : BitVec 32 :=
  let arg1 : BitVec 32 := BitVec.ofNat 32 (i 1).val
  let c2_i32_3720 : BitVec 32 := 2#32
  let v6007 : BitVec 32 := Scalar.muli arg1 c2_i32_3720
  let c1_i32_3721 : BitVec 32 := 1#32
  let v6008 : BitVec 32 := Scalar.addi v6007 c1_i32_3721
  let c256_i32_3722 : BitVec 32 := 256#32
  let v6009 : BitVec 32 := Scalar.muli v6008 c256_i32_3722
  let c135_i32_3723 : BitVec 32 := 135#32
  let v6010 : BitVec 32 := Scalar.addi v6009 c135_i32_3723
  let c8_i32_3727 : BitVec 32 := 8#32
  let v6015 : BitVec 32 := Scalar.muli v6010 c8_i32_3727
  v6015
def k0_off1587 (i : grid0.Coords) : Fin 1 → Nat :=
  let c1_i32_3724 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6011 : BitVec 32 := Scalar.subi c1_i32_3724 v9
  ![v6011.toNat]
def k0_off1588 (i : grid0.Coords) : Fin 3 → Nat :=
  let c1_i32_3724 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6011 : BitVec 32 := Scalar.subi c1_i32_3724 v9
  let arg1 : BitVec 32 := BitVec.ofNat 32 (i 1).val
  let c2_i32_3720 : BitVec 32 := 2#32
  let v6007 : BitVec 32 := Scalar.muli arg1 c2_i32_3720
  let c1_i32_3721 : BitVec 32 := 1#32
  let v6008 : BitVec 32 := Scalar.addi v6007 c1_i32_3721
  let c256_i32_3722 : BitVec 32 := 256#32
  let v6009 : BitVec 32 := Scalar.muli v6008 c256_i32_3722
  let c135_i32_3723 : BitVec 32 := 135#32
  let v6010 : BitVec 32 := Scalar.addi v6009 c135_i32_3723
  let c8_i32_3727 : BitVec 32 := 8#32
  let v6015 : BitVec 32 := Scalar.muli v6010 c8_i32_3727
  let v6016 : BitVec 32 := v6015
  let c0_i32_3728 : BitVec 32 := 0#32
  ![v6011.toNat, v6016.toNat, 0]
def k0_off1589 (v6013 : BitVec 32) : Fin 2 → Nat :=
  let v6014 : BitVec 32 := v6013
  let c0_i32_3729 : BitVec 32 := 0#32
  ![v6014.toNat, 0]

def k0_chk393 (i : grid0.Coords) (v6013 : BitVec 32) : Prop :=
  (∀ (k0_h2 : k0_cond2 i = 1#1), 8 ∣ (k0_mult785 v6013).toNat) ∧
  (∀ (k0_h2 : k0_cond2 i = 1#1), ∀ a, (k0_off1589 v6013) a + S8x128.size a ≤ S131072x128.size a)
theorem k0_mult785_dvd : ∀ (i : grid0.Coords) (v6013 : BitVec 32) (k0_hw393 : k0_chk393 i v6013), ∀ (k0_h2 : k0_cond2 i = 1#1), 8 ∣ (k0_mult785 v6013).toNat := fun i v6013 k0_hw393 k0_h2 => k0_hw393.1 k0_h2
theorem k0_off1589_inb : ∀ (i : grid0.Coords) (v6013 : BitVec 32) (k0_hw393 : k0_chk393 i v6013), ∀ (k0_h2 : k0_cond2 i = 1#1), ∀ a, (k0_off1589 v6013) a + S8x128.size a ≤ S131072x128.size a := fun i v6013 k0_hw393 k0_h2 => k0_hw393.2 k0_h2

def k0_off1590 (i : grid0.Coords) : Fin 3 → Nat :=
  let c0_3735 : Index := 0#32
  let c0_3736 : Index := 0#32
  let arg1 : BitVec 32 := BitVec.ofNat 32 (i 1).val
  let c2_i32_3730 : BitVec 32 := 2#32
  let v6022 : BitVec 32 := Scalar.muli arg1 c2_i32_3730
  let c1_i32_3731 : BitVec 32 := 1#32
  let v6023 : BitVec 32 := Scalar.addi v6022 c1_i32_3731
  let c256_i32_3732 : BitVec 32 := 256#32
  let v6024 : BitVec 32 := Scalar.muli v6023 c256_i32_3732
  let c136_i32_3733 : BitVec 32 := 136#32
  let v6025 : BitVec 32 := Scalar.addi v6024 c136_i32_3733
  let v6027 : Index := Scalar.indexCast v6025
  ![0, 0, v6027.toNat]
def k0_mult787 (v6028 : BitVec 32) : BitVec 32 :=
  v6028

def k0_mult788 (i : grid0.Coords) : BitVec 32 :=
  let arg1 : BitVec 32 := BitVec.ofNat 32 (i 1).val
  let c2_i32_3730 : BitVec 32 := 2#32
  let v6022 : BitVec 32 := Scalar.muli arg1 c2_i32_3730
  let c1_i32_3731 : BitVec 32 := 1#32
  let v6023 : BitVec 32 := Scalar.addi v6022 c1_i32_3731
  let c256_i32_3732 : BitVec 32 := 256#32
  let v6024 : BitVec 32 := Scalar.muli v6023 c256_i32_3732
  let c136_i32_3733 : BitVec 32 := 136#32
  let v6025 : BitVec 32 := Scalar.addi v6024 c136_i32_3733
  let c8_i32_3737 : BitVec 32 := 8#32
  let v6030 : BitVec 32 := Scalar.muli v6025 c8_i32_3737
  v6030
def k0_off1591 (i : grid0.Coords) : Fin 1 → Nat :=
  let c1_i32_3734 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6026 : BitVec 32 := Scalar.subi c1_i32_3734 v9
  ![v6026.toNat]
def k0_off1592 (i : grid0.Coords) : Fin 3 → Nat :=
  let c1_i32_3734 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6026 : BitVec 32 := Scalar.subi c1_i32_3734 v9
  let arg1 : BitVec 32 := BitVec.ofNat 32 (i 1).val
  let c2_i32_3730 : BitVec 32 := 2#32
  let v6022 : BitVec 32 := Scalar.muli arg1 c2_i32_3730
  let c1_i32_3731 : BitVec 32 := 1#32
  let v6023 : BitVec 32 := Scalar.addi v6022 c1_i32_3731
  let c256_i32_3732 : BitVec 32 := 256#32
  let v6024 : BitVec 32 := Scalar.muli v6023 c256_i32_3732
  let c136_i32_3733 : BitVec 32 := 136#32
  let v6025 : BitVec 32 := Scalar.addi v6024 c136_i32_3733
  let c8_i32_3737 : BitVec 32 := 8#32
  let v6030 : BitVec 32 := Scalar.muli v6025 c8_i32_3737
  let v6031 : BitVec 32 := v6030
  let c0_i32_3738 : BitVec 32 := 0#32
  ![v6026.toNat, v6031.toNat, 0]
def k0_off1593 (v6028 : BitVec 32) : Fin 2 → Nat :=
  let v6029 : BitVec 32 := v6028
  let c0_i32_3739 : BitVec 32 := 0#32
  ![v6029.toNat, 0]

def k0_chk394 (i : grid0.Coords) (v6028 : BitVec 32) : Prop :=
  (∀ (k0_h2 : k0_cond2 i = 1#1), 8 ∣ (k0_mult787 v6028).toNat) ∧
  (∀ (k0_h2 : k0_cond2 i = 1#1), ∀ a, (k0_off1593 v6028) a + S8x128.size a ≤ S131072x128.size a)
theorem k0_mult787_dvd : ∀ (i : grid0.Coords) (v6028 : BitVec 32) (k0_hw394 : k0_chk394 i v6028), ∀ (k0_h2 : k0_cond2 i = 1#1), 8 ∣ (k0_mult787 v6028).toNat := fun i v6028 k0_hw394 k0_h2 => k0_hw394.1 k0_h2
theorem k0_off1593_inb : ∀ (i : grid0.Coords) (v6028 : BitVec 32) (k0_hw394 : k0_chk394 i v6028), ∀ (k0_h2 : k0_cond2 i = 1#1), ∀ a, (k0_off1593 v6028) a + S8x128.size a ≤ S131072x128.size a := fun i v6028 k0_hw394 k0_h2 => k0_hw394.2 k0_h2

def k0_off1594 (i : grid0.Coords) : Fin 3 → Nat :=
  let c0_3745 : Index := 0#32
  let c0_3746 : Index := 0#32
  let arg1 : BitVec 32 := BitVec.ofNat 32 (i 1).val
  let c2_i32_3740 : BitVec 32 := 2#32
  let v6037 : BitVec 32 := Scalar.muli arg1 c2_i32_3740
  let c1_i32_3741 : BitVec 32 := 1#32
  let v6038 : BitVec 32 := Scalar.addi v6037 c1_i32_3741
  let c256_i32_3742 : BitVec 32 := 256#32
  let v6039 : BitVec 32 := Scalar.muli v6038 c256_i32_3742
  let c137_i32_3743 : BitVec 32 := 137#32
  let v6040 : BitVec 32 := Scalar.addi v6039 c137_i32_3743
  let v6042 : Index := Scalar.indexCast v6040
  ![0, 0, v6042.toNat]
def k0_mult789 (v6043 : BitVec 32) : BitVec 32 :=
  v6043

def k0_mult790 (i : grid0.Coords) : BitVec 32 :=
  let arg1 : BitVec 32 := BitVec.ofNat 32 (i 1).val
  let c2_i32_3740 : BitVec 32 := 2#32
  let v6037 : BitVec 32 := Scalar.muli arg1 c2_i32_3740
  let c1_i32_3741 : BitVec 32 := 1#32
  let v6038 : BitVec 32 := Scalar.addi v6037 c1_i32_3741
  let c256_i32_3742 : BitVec 32 := 256#32
  let v6039 : BitVec 32 := Scalar.muli v6038 c256_i32_3742
  let c137_i32_3743 : BitVec 32 := 137#32
  let v6040 : BitVec 32 := Scalar.addi v6039 c137_i32_3743
  let c8_i32_3747 : BitVec 32 := 8#32
  let v6045 : BitVec 32 := Scalar.muli v6040 c8_i32_3747
  v6045
def k0_off1595 (i : grid0.Coords) : Fin 1 → Nat :=
  let c1_i32_3744 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6041 : BitVec 32 := Scalar.subi c1_i32_3744 v9
  ![v6041.toNat]
def k0_off1596 (i : grid0.Coords) : Fin 3 → Nat :=
  let c1_i32_3744 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6041 : BitVec 32 := Scalar.subi c1_i32_3744 v9
  let arg1 : BitVec 32 := BitVec.ofNat 32 (i 1).val
  let c2_i32_3740 : BitVec 32 := 2#32
  let v6037 : BitVec 32 := Scalar.muli arg1 c2_i32_3740
  let c1_i32_3741 : BitVec 32 := 1#32
  let v6038 : BitVec 32 := Scalar.addi v6037 c1_i32_3741
  let c256_i32_3742 : BitVec 32 := 256#32
  let v6039 : BitVec 32 := Scalar.muli v6038 c256_i32_3742
  let c137_i32_3743 : BitVec 32 := 137#32
  let v6040 : BitVec 32 := Scalar.addi v6039 c137_i32_3743
  let c8_i32_3747 : BitVec 32 := 8#32
  let v6045 : BitVec 32 := Scalar.muli v6040 c8_i32_3747
  let v6046 : BitVec 32 := v6045
  let c0_i32_3748 : BitVec 32 := 0#32
  ![v6041.toNat, v6046.toNat, 0]
def k0_off1597 (v6043 : BitVec 32) : Fin 2 → Nat :=
  let v6044 : BitVec 32 := v6043
  let c0_i32_3749 : BitVec 32 := 0#32
  ![v6044.toNat, 0]

def k0_chk395 (i : grid0.Coords) (v6043 : BitVec 32) : Prop :=
  (∀ (k0_h2 : k0_cond2 i = 1#1), 8 ∣ (k0_mult789 v6043).toNat) ∧
  (∀ (k0_h2 : k0_cond2 i = 1#1), ∀ a, (k0_off1597 v6043) a + S8x128.size a ≤ S131072x128.size a)
theorem k0_mult789_dvd : ∀ (i : grid0.Coords) (v6043 : BitVec 32) (k0_hw395 : k0_chk395 i v6043), ∀ (k0_h2 : k0_cond2 i = 1#1), 8 ∣ (k0_mult789 v6043).toNat := fun i v6043 k0_hw395 k0_h2 => k0_hw395.1 k0_h2
theorem k0_off1597_inb : ∀ (i : grid0.Coords) (v6043 : BitVec 32) (k0_hw395 : k0_chk395 i v6043), ∀ (k0_h2 : k0_cond2 i = 1#1), ∀ a, (k0_off1597 v6043) a + S8x128.size a ≤ S131072x128.size a := fun i v6043 k0_hw395 k0_h2 => k0_hw395.2 k0_h2

def k0_off1598 (i : grid0.Coords) : Fin 3 → Nat :=
  let c0_3755 : Index := 0#32
  let c0_3756 : Index := 0#32
  let arg1 : BitVec 32 := BitVec.ofNat 32 (i 1).val
  let c2_i32_3750 : BitVec 32 := 2#32
  let v6052 : BitVec 32 := Scalar.muli arg1 c2_i32_3750
  let c1_i32_3751 : BitVec 32 := 1#32
  let v6053 : BitVec 32 := Scalar.addi v6052 c1_i32_3751
  let c256_i32_3752 : BitVec 32 := 256#32
  let v6054 : BitVec 32 := Scalar.muli v6053 c256_i32_3752
  let c138_i32_3753 : BitVec 32 := 138#32
  let v6055 : BitVec 32 := Scalar.addi v6054 c138_i32_3753
  let v6057 : Index := Scalar.indexCast v6055
  ![0, 0, v6057.toNat]
def k0_mult791 (v6058 : BitVec 32) : BitVec 32 :=
  v6058

def k0_mult792 (i : grid0.Coords) : BitVec 32 :=
  let arg1 : BitVec 32 := BitVec.ofNat 32 (i 1).val
  let c2_i32_3750 : BitVec 32 := 2#32
  let v6052 : BitVec 32 := Scalar.muli arg1 c2_i32_3750
  let c1_i32_3751 : BitVec 32 := 1#32
  let v6053 : BitVec 32 := Scalar.addi v6052 c1_i32_3751
  let c256_i32_3752 : BitVec 32 := 256#32
  let v6054 : BitVec 32 := Scalar.muli v6053 c256_i32_3752
  let c138_i32_3753 : BitVec 32 := 138#32
  let v6055 : BitVec 32 := Scalar.addi v6054 c138_i32_3753
  let c8_i32_3757 : BitVec 32 := 8#32
  let v6060 : BitVec 32 := Scalar.muli v6055 c8_i32_3757
  v6060
def k0_off1599 (i : grid0.Coords) : Fin 1 → Nat :=
  let c1_i32_3754 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6056 : BitVec 32 := Scalar.subi c1_i32_3754 v9
  ![v6056.toNat]
def k0_off1600 (i : grid0.Coords) : Fin 3 → Nat :=
  let c1_i32_3754 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6056 : BitVec 32 := Scalar.subi c1_i32_3754 v9
  let arg1 : BitVec 32 := BitVec.ofNat 32 (i 1).val
  let c2_i32_3750 : BitVec 32 := 2#32
  let v6052 : BitVec 32 := Scalar.muli arg1 c2_i32_3750
  let c1_i32_3751 : BitVec 32 := 1#32
  let v6053 : BitVec 32 := Scalar.addi v6052 c1_i32_3751
  let c256_i32_3752 : BitVec 32 := 256#32
  let v6054 : BitVec 32 := Scalar.muli v6053 c256_i32_3752
  let c138_i32_3753 : BitVec 32 := 138#32
  let v6055 : BitVec 32 := Scalar.addi v6054 c138_i32_3753
  let c8_i32_3757 : BitVec 32 := 8#32
  let v6060 : BitVec 32 := Scalar.muli v6055 c8_i32_3757
  let v6061 : BitVec 32 := v6060
  let c0_i32_3758 : BitVec 32 := 0#32
  ![v6056.toNat, v6061.toNat, 0]
def k0_off1601 (v6058 : BitVec 32) : Fin 2 → Nat :=
  let v6059 : BitVec 32 := v6058
  let c0_i32_3759 : BitVec 32 := 0#32
  ![v6059.toNat, 0]

def k0_chk396 (i : grid0.Coords) (v6058 : BitVec 32) : Prop :=
  (∀ (k0_h2 : k0_cond2 i = 1#1), 8 ∣ (k0_mult791 v6058).toNat) ∧
  (∀ (k0_h2 : k0_cond2 i = 1#1), ∀ a, (k0_off1601 v6058) a + S8x128.size a ≤ S131072x128.size a)
theorem k0_mult791_dvd : ∀ (i : grid0.Coords) (v6058 : BitVec 32) (k0_hw396 : k0_chk396 i v6058), ∀ (k0_h2 : k0_cond2 i = 1#1), 8 ∣ (k0_mult791 v6058).toNat := fun i v6058 k0_hw396 k0_h2 => k0_hw396.1 k0_h2
theorem k0_off1601_inb : ∀ (i : grid0.Coords) (v6058 : BitVec 32) (k0_hw396 : k0_chk396 i v6058), ∀ (k0_h2 : k0_cond2 i = 1#1), ∀ a, (k0_off1601 v6058) a + S8x128.size a ≤ S131072x128.size a := fun i v6058 k0_hw396 k0_h2 => k0_hw396.2 k0_h2

def k0_off1602 (i : grid0.Coords) : Fin 3 → Nat :=
  let c0_3765 : Index := 0#32
  let c0_3766 : Index := 0#32
  let arg1 : BitVec 32 := BitVec.ofNat 32 (i 1).val
  let c2_i32_3760 : BitVec 32 := 2#32
  let v6067 : BitVec 32 := Scalar.muli arg1 c2_i32_3760
  let c1_i32_3761 : BitVec 32 := 1#32
  let v6068 : BitVec 32 := Scalar.addi v6067 c1_i32_3761
  let c256_i32_3762 : BitVec 32 := 256#32
  let v6069 : BitVec 32 := Scalar.muli v6068 c256_i32_3762
  let c139_i32_3763 : BitVec 32 := 139#32
  let v6070 : BitVec 32 := Scalar.addi v6069 c139_i32_3763
  let v6072 : Index := Scalar.indexCast v6070
  ![0, 0, v6072.toNat]
def k0_mult793 (v6073 : BitVec 32) : BitVec 32 :=
  v6073

def k0_mult794 (i : grid0.Coords) : BitVec 32 :=
  let arg1 : BitVec 32 := BitVec.ofNat 32 (i 1).val
  let c2_i32_3760 : BitVec 32 := 2#32
  let v6067 : BitVec 32 := Scalar.muli arg1 c2_i32_3760
  let c1_i32_3761 : BitVec 32 := 1#32
  let v6068 : BitVec 32 := Scalar.addi v6067 c1_i32_3761
  let c256_i32_3762 : BitVec 32 := 256#32
  let v6069 : BitVec 32 := Scalar.muli v6068 c256_i32_3762
  let c139_i32_3763 : BitVec 32 := 139#32
  let v6070 : BitVec 32 := Scalar.addi v6069 c139_i32_3763
  let c8_i32_3767 : BitVec 32 := 8#32
  let v6075 : BitVec 32 := Scalar.muli v6070 c8_i32_3767
  v6075
def k0_off1603 (i : grid0.Coords) : Fin 1 → Nat :=
  let c1_i32_3764 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6071 : BitVec 32 := Scalar.subi c1_i32_3764 v9
  ![v6071.toNat]
def k0_off1604 (i : grid0.Coords) : Fin 3 → Nat :=
  let c1_i32_3764 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6071 : BitVec 32 := Scalar.subi c1_i32_3764 v9
  let arg1 : BitVec 32 := BitVec.ofNat 32 (i 1).val
  let c2_i32_3760 : BitVec 32 := 2#32
  let v6067 : BitVec 32 := Scalar.muli arg1 c2_i32_3760
  let c1_i32_3761 : BitVec 32 := 1#32
  let v6068 : BitVec 32 := Scalar.addi v6067 c1_i32_3761
  let c256_i32_3762 : BitVec 32 := 256#32
  let v6069 : BitVec 32 := Scalar.muli v6068 c256_i32_3762
  let c139_i32_3763 : BitVec 32 := 139#32
  let v6070 : BitVec 32 := Scalar.addi v6069 c139_i32_3763
  let c8_i32_3767 : BitVec 32 := 8#32
  let v6075 : BitVec 32 := Scalar.muli v6070 c8_i32_3767
  let v6076 : BitVec 32 := v6075
  let c0_i32_3768 : BitVec 32 := 0#32
  ![v6071.toNat, v6076.toNat, 0]
def k0_off1605 (v6073 : BitVec 32) : Fin 2 → Nat :=
  let v6074 : BitVec 32 := v6073
  let c0_i32_3769 : BitVec 32 := 0#32
  ![v6074.toNat, 0]

def k0_chk397 (i : grid0.Coords) (v6073 : BitVec 32) : Prop :=
  (∀ (k0_h2 : k0_cond2 i = 1#1), 8 ∣ (k0_mult793 v6073).toNat) ∧
  (∀ (k0_h2 : k0_cond2 i = 1#1), ∀ a, (k0_off1605 v6073) a + S8x128.size a ≤ S131072x128.size a)
theorem k0_mult793_dvd : ∀ (i : grid0.Coords) (v6073 : BitVec 32) (k0_hw397 : k0_chk397 i v6073), ∀ (k0_h2 : k0_cond2 i = 1#1), 8 ∣ (k0_mult793 v6073).toNat := fun i v6073 k0_hw397 k0_h2 => k0_hw397.1 k0_h2
theorem k0_off1605_inb : ∀ (i : grid0.Coords) (v6073 : BitVec 32) (k0_hw397 : k0_chk397 i v6073), ∀ (k0_h2 : k0_cond2 i = 1#1), ∀ a, (k0_off1605 v6073) a + S8x128.size a ≤ S131072x128.size a := fun i v6073 k0_hw397 k0_h2 => k0_hw397.2 k0_h2

def k0_off1606 (i : grid0.Coords) : Fin 3 → Nat :=
  let c0_3775 : Index := 0#32
  let c0_3776 : Index := 0#32
  let arg1 : BitVec 32 := BitVec.ofNat 32 (i 1).val
  let c2_i32_3770 : BitVec 32 := 2#32
  let v6082 : BitVec 32 := Scalar.muli arg1 c2_i32_3770
  let c1_i32_3771 : BitVec 32 := 1#32
  let v6083 : BitVec 32 := Scalar.addi v6082 c1_i32_3771
  let c256_i32_3772 : BitVec 32 := 256#32
  let v6084 : BitVec 32 := Scalar.muli v6083 c256_i32_3772
  let c140_i32_3773 : BitVec 32 := 140#32
  let v6085 : BitVec 32 := Scalar.addi v6084 c140_i32_3773
  let v6087 : Index := Scalar.indexCast v6085
  ![0, 0, v6087.toNat]
def k0_mult795 (v6088 : BitVec 32) : BitVec 32 :=
  v6088

def k0_mult796 (i : grid0.Coords) : BitVec 32 :=
  let arg1 : BitVec 32 := BitVec.ofNat 32 (i 1).val
  let c2_i32_3770 : BitVec 32 := 2#32
  let v6082 : BitVec 32 := Scalar.muli arg1 c2_i32_3770
  let c1_i32_3771 : BitVec 32 := 1#32
  let v6083 : BitVec 32 := Scalar.addi v6082 c1_i32_3771
  let c256_i32_3772 : BitVec 32 := 256#32
  let v6084 : BitVec 32 := Scalar.muli v6083 c256_i32_3772
  let c140_i32_3773 : BitVec 32 := 140#32
  let v6085 : BitVec 32 := Scalar.addi v6084 c140_i32_3773
  let c8_i32_3777 : BitVec 32 := 8#32
  let v6090 : BitVec 32 := Scalar.muli v6085 c8_i32_3777
  v6090
def k0_off1607 (i : grid0.Coords) : Fin 1 → Nat :=
  let c1_i32_3774 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6086 : BitVec 32 := Scalar.subi c1_i32_3774 v9
  ![v6086.toNat]
def k0_off1608 (i : grid0.Coords) : Fin 3 → Nat :=
  let c1_i32_3774 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6086 : BitVec 32 := Scalar.subi c1_i32_3774 v9
  let arg1 : BitVec 32 := BitVec.ofNat 32 (i 1).val
  let c2_i32_3770 : BitVec 32 := 2#32
  let v6082 : BitVec 32 := Scalar.muli arg1 c2_i32_3770
  let c1_i32_3771 : BitVec 32 := 1#32
  let v6083 : BitVec 32 := Scalar.addi v6082 c1_i32_3771
  let c256_i32_3772 : BitVec 32 := 256#32
  let v6084 : BitVec 32 := Scalar.muli v6083 c256_i32_3772
  let c140_i32_3773 : BitVec 32 := 140#32
  let v6085 : BitVec 32 := Scalar.addi v6084 c140_i32_3773
  let c8_i32_3777 : BitVec 32 := 8#32
  let v6090 : BitVec 32 := Scalar.muli v6085 c8_i32_3777
  let v6091 : BitVec 32 := v6090
  let c0_i32_3778 : BitVec 32 := 0#32
  ![v6086.toNat, v6091.toNat, 0]
def k0_off1609 (v6088 : BitVec 32) : Fin 2 → Nat :=
  let v6089 : BitVec 32 := v6088
  let c0_i32_3779 : BitVec 32 := 0#32
  ![v6089.toNat, 0]

def k0_chk398 (i : grid0.Coords) (v6088 : BitVec 32) : Prop :=
  (∀ (k0_h2 : k0_cond2 i = 1#1), 8 ∣ (k0_mult795 v6088).toNat) ∧
  (∀ (k0_h2 : k0_cond2 i = 1#1), ∀ a, (k0_off1609 v6088) a + S8x128.size a ≤ S131072x128.size a)
theorem k0_mult795_dvd : ∀ (i : grid0.Coords) (v6088 : BitVec 32) (k0_hw398 : k0_chk398 i v6088), ∀ (k0_h2 : k0_cond2 i = 1#1), 8 ∣ (k0_mult795 v6088).toNat := fun i v6088 k0_hw398 k0_h2 => k0_hw398.1 k0_h2
theorem k0_off1609_inb : ∀ (i : grid0.Coords) (v6088 : BitVec 32) (k0_hw398 : k0_chk398 i v6088), ∀ (k0_h2 : k0_cond2 i = 1#1), ∀ a, (k0_off1609 v6088) a + S8x128.size a ≤ S131072x128.size a := fun i v6088 k0_hw398 k0_h2 => k0_hw398.2 k0_h2

def k0_off1610 (i : grid0.Coords) : Fin 3 → Nat :=
  let c0_3785 : Index := 0#32
  let c0_3786 : Index := 0#32
  let arg1 : BitVec 32 := BitVec.ofNat 32 (i 1).val
  let c2_i32_3780 : BitVec 32 := 2#32
  let v6097 : BitVec 32 := Scalar.muli arg1 c2_i32_3780
  let c1_i32_3781 : BitVec 32 := 1#32
  let v6098 : BitVec 32 := Scalar.addi v6097 c1_i32_3781
  let c256_i32_3782 : BitVec 32 := 256#32
  let v6099 : BitVec 32 := Scalar.muli v6098 c256_i32_3782
  let c141_i32_3783 : BitVec 32 := 141#32
  let v6100 : BitVec 32 := Scalar.addi v6099 c141_i32_3783
  let v6102 : Index := Scalar.indexCast v6100
  ![0, 0, v6102.toNat]
def k0_mult797 (v6103 : BitVec 32) : BitVec 32 :=
  v6103

def k0_mult798 (i : grid0.Coords) : BitVec 32 :=
  let arg1 : BitVec 32 := BitVec.ofNat 32 (i 1).val
  let c2_i32_3780 : BitVec 32 := 2#32
  let v6097 : BitVec 32 := Scalar.muli arg1 c2_i32_3780
  let c1_i32_3781 : BitVec 32 := 1#32
  let v6098 : BitVec 32 := Scalar.addi v6097 c1_i32_3781
  let c256_i32_3782 : BitVec 32 := 256#32
  let v6099 : BitVec 32 := Scalar.muli v6098 c256_i32_3782
  let c141_i32_3783 : BitVec 32 := 141#32
  let v6100 : BitVec 32 := Scalar.addi v6099 c141_i32_3783
  let c8_i32_3787 : BitVec 32 := 8#32
  let v6105 : BitVec 32 := Scalar.muli v6100 c8_i32_3787
  v6105
def k0_off1611 (i : grid0.Coords) : Fin 1 → Nat :=
  let c1_i32_3784 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6101 : BitVec 32 := Scalar.subi c1_i32_3784 v9
  ![v6101.toNat]
def k0_off1612 (i : grid0.Coords) : Fin 3 → Nat :=
  let c1_i32_3784 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6101 : BitVec 32 := Scalar.subi c1_i32_3784 v9
  let arg1 : BitVec 32 := BitVec.ofNat 32 (i 1).val
  let c2_i32_3780 : BitVec 32 := 2#32
  let v6097 : BitVec 32 := Scalar.muli arg1 c2_i32_3780
  let c1_i32_3781 : BitVec 32 := 1#32
  let v6098 : BitVec 32 := Scalar.addi v6097 c1_i32_3781
  let c256_i32_3782 : BitVec 32 := 256#32
  let v6099 : BitVec 32 := Scalar.muli v6098 c256_i32_3782
  let c141_i32_3783 : BitVec 32 := 141#32
  let v6100 : BitVec 32 := Scalar.addi v6099 c141_i32_3783
  let c8_i32_3787 : BitVec 32 := 8#32
  let v6105 : BitVec 32 := Scalar.muli v6100 c8_i32_3787
  let v6106 : BitVec 32 := v6105
  let c0_i32_3788 : BitVec 32 := 0#32
  ![v6101.toNat, v6106.toNat, 0]
def k0_off1613 (v6103 : BitVec 32) : Fin 2 → Nat :=
  let v6104 : BitVec 32 := v6103
  let c0_i32_3789 : BitVec 32 := 0#32
  ![v6104.toNat, 0]

def k0_chk399 (i : grid0.Coords) (v6103 : BitVec 32) : Prop :=
  (∀ (k0_h2 : k0_cond2 i = 1#1), 8 ∣ (k0_mult797 v6103).toNat) ∧
  (∀ (k0_h2 : k0_cond2 i = 1#1), ∀ a, (k0_off1613 v6103) a + S8x128.size a ≤ S131072x128.size a)
theorem k0_mult797_dvd : ∀ (i : grid0.Coords) (v6103 : BitVec 32) (k0_hw399 : k0_chk399 i v6103), ∀ (k0_h2 : k0_cond2 i = 1#1), 8 ∣ (k0_mult797 v6103).toNat := fun i v6103 k0_hw399 k0_h2 => k0_hw399.1 k0_h2
theorem k0_off1613_inb : ∀ (i : grid0.Coords) (v6103 : BitVec 32) (k0_hw399 : k0_chk399 i v6103), ∀ (k0_h2 : k0_cond2 i = 1#1), ∀ a, (k0_off1613 v6103) a + S8x128.size a ≤ S131072x128.size a := fun i v6103 k0_hw399 k0_h2 => k0_hw399.2 k0_h2

def k0_off1614 (i : grid0.Coords) : Fin 3 → Nat :=
  let c0_3795 : Index := 0#32
  let c0_3796 : Index := 0#32
  let arg1 : BitVec 32 := BitVec.ofNat 32 (i 1).val
  let c2_i32_3790 : BitVec 32 := 2#32
  let v6112 : BitVec 32 := Scalar.muli arg1 c2_i32_3790
  let c1_i32_3791 : BitVec 32 := 1#32
  let v6113 : BitVec 32 := Scalar.addi v6112 c1_i32_3791
  let c256_i32_3792 : BitVec 32 := 256#32
  let v6114 : BitVec 32 := Scalar.muli v6113 c256_i32_3792
  let c142_i32_3793 : BitVec 32 := 142#32
  let v6115 : BitVec 32 := Scalar.addi v6114 c142_i32_3793
  let v6117 : Index := Scalar.indexCast v6115
  ![0, 0, v6117.toNat]
def k0_mult799 (v6118 : BitVec 32) : BitVec 32 :=
  v6118

def k0_mult800 (i : grid0.Coords) : BitVec 32 :=
  let arg1 : BitVec 32 := BitVec.ofNat 32 (i 1).val
  let c2_i32_3790 : BitVec 32 := 2#32
  let v6112 : BitVec 32 := Scalar.muli arg1 c2_i32_3790
  let c1_i32_3791 : BitVec 32 := 1#32
  let v6113 : BitVec 32 := Scalar.addi v6112 c1_i32_3791
  let c256_i32_3792 : BitVec 32 := 256#32
  let v6114 : BitVec 32 := Scalar.muli v6113 c256_i32_3792
  let c142_i32_3793 : BitVec 32 := 142#32
  let v6115 : BitVec 32 := Scalar.addi v6114 c142_i32_3793
  let c8_i32_3797 : BitVec 32 := 8#32
  let v6120 : BitVec 32 := Scalar.muli v6115 c8_i32_3797
  v6120
def k0_off1615 (i : grid0.Coords) : Fin 1 → Nat :=
  let c1_i32_3794 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6116 : BitVec 32 := Scalar.subi c1_i32_3794 v9
  ![v6116.toNat]
def k0_off1616 (i : grid0.Coords) : Fin 3 → Nat :=
  let c1_i32_3794 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6116 : BitVec 32 := Scalar.subi c1_i32_3794 v9
  let arg1 : BitVec 32 := BitVec.ofNat 32 (i 1).val
  let c2_i32_3790 : BitVec 32 := 2#32
  let v6112 : BitVec 32 := Scalar.muli arg1 c2_i32_3790
  let c1_i32_3791 : BitVec 32 := 1#32
  let v6113 : BitVec 32 := Scalar.addi v6112 c1_i32_3791
  let c256_i32_3792 : BitVec 32 := 256#32
  let v6114 : BitVec 32 := Scalar.muli v6113 c256_i32_3792
  let c142_i32_3793 : BitVec 32 := 142#32
  let v6115 : BitVec 32 := Scalar.addi v6114 c142_i32_3793
  let c8_i32_3797 : BitVec 32 := 8#32
  let v6120 : BitVec 32 := Scalar.muli v6115 c8_i32_3797
  let v6121 : BitVec 32 := v6120
  let c0_i32_3798 : BitVec 32 := 0#32
  ![v6116.toNat, v6121.toNat, 0]
def k0_off1617 (v6118 : BitVec 32) : Fin 2 → Nat :=
  let v6119 : BitVec 32 := v6118
  let c0_i32_3799 : BitVec 32 := 0#32
  ![v6119.toNat, 0]

def k0_chk400 (i : grid0.Coords) (v6118 : BitVec 32) : Prop :=
  (∀ (k0_h2 : k0_cond2 i = 1#1), 8 ∣ (k0_mult799 v6118).toNat) ∧
  (∀ (k0_h2 : k0_cond2 i = 1#1), ∀ a, (k0_off1617 v6118) a + S8x128.size a ≤ S131072x128.size a)
theorem k0_mult799_dvd : ∀ (i : grid0.Coords) (v6118 : BitVec 32) (k0_hw400 : k0_chk400 i v6118), ∀ (k0_h2 : k0_cond2 i = 1#1), 8 ∣ (k0_mult799 v6118).toNat := fun i v6118 k0_hw400 k0_h2 => k0_hw400.1 k0_h2
theorem k0_off1617_inb : ∀ (i : grid0.Coords) (v6118 : BitVec 32) (k0_hw400 : k0_chk400 i v6118), ∀ (k0_h2 : k0_cond2 i = 1#1), ∀ a, (k0_off1617 v6118) a + S8x128.size a ≤ S131072x128.size a := fun i v6118 k0_hw400 k0_h2 => k0_hw400.2 k0_h2

def k0_off1618 (i : grid0.Coords) : Fin 3 → Nat :=
  let c0_3805 : Index := 0#32
  let c0_3806 : Index := 0#32
  let arg1 : BitVec 32 := BitVec.ofNat 32 (i 1).val
  let c2_i32_3800 : BitVec 32 := 2#32
  let v6127 : BitVec 32 := Scalar.muli arg1 c2_i32_3800
  let c1_i32_3801 : BitVec 32 := 1#32
  let v6128 : BitVec 32 := Scalar.addi v6127 c1_i32_3801
  let c256_i32_3802 : BitVec 32 := 256#32
  let v6129 : BitVec 32 := Scalar.muli v6128 c256_i32_3802
  let c143_i32_3803 : BitVec 32 := 143#32
  let v6130 : BitVec 32 := Scalar.addi v6129 c143_i32_3803
  let v6132 : Index := Scalar.indexCast v6130
  ![0, 0, v6132.toNat]
def k0_mult801 (v6133 : BitVec 32) : BitVec 32 :=
  v6133

def k0_mult802 (i : grid0.Coords) : BitVec 32 :=
  let arg1 : BitVec 32 := BitVec.ofNat 32 (i 1).val
  let c2_i32_3800 : BitVec 32 := 2#32
  let v6127 : BitVec 32 := Scalar.muli arg1 c2_i32_3800
  let c1_i32_3801 : BitVec 32 := 1#32
  let v6128 : BitVec 32 := Scalar.addi v6127 c1_i32_3801
  let c256_i32_3802 : BitVec 32 := 256#32
  let v6129 : BitVec 32 := Scalar.muli v6128 c256_i32_3802
  let c143_i32_3803 : BitVec 32 := 143#32
  let v6130 : BitVec 32 := Scalar.addi v6129 c143_i32_3803
  let c8_i32_3807 : BitVec 32 := 8#32
  let v6135 : BitVec 32 := Scalar.muli v6130 c8_i32_3807
  v6135
def k0_off1619 (i : grid0.Coords) : Fin 1 → Nat :=
  let c1_i32_3804 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6131 : BitVec 32 := Scalar.subi c1_i32_3804 v9
  ![v6131.toNat]
def k0_off1620 (i : grid0.Coords) : Fin 3 → Nat :=
  let c1_i32_3804 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6131 : BitVec 32 := Scalar.subi c1_i32_3804 v9
  let arg1 : BitVec 32 := BitVec.ofNat 32 (i 1).val
  let c2_i32_3800 : BitVec 32 := 2#32
  let v6127 : BitVec 32 := Scalar.muli arg1 c2_i32_3800
  let c1_i32_3801 : BitVec 32 := 1#32
  let v6128 : BitVec 32 := Scalar.addi v6127 c1_i32_3801
  let c256_i32_3802 : BitVec 32 := 256#32
  let v6129 : BitVec 32 := Scalar.muli v6128 c256_i32_3802
  let c143_i32_3803 : BitVec 32 := 143#32
  let v6130 : BitVec 32 := Scalar.addi v6129 c143_i32_3803
  let c8_i32_3807 : BitVec 32 := 8#32
  let v6135 : BitVec 32 := Scalar.muli v6130 c8_i32_3807
  let v6136 : BitVec 32 := v6135
  let c0_i32_3808 : BitVec 32 := 0#32
  ![v6131.toNat, v6136.toNat, 0]
def k0_off1621 (v6133 : BitVec 32) : Fin 2 → Nat :=
  let v6134 : BitVec 32 := v6133
  let c0_i32_3809 : BitVec 32 := 0#32
  ![v6134.toNat, 0]

def k0_chk401 (i : grid0.Coords) (v6133 : BitVec 32) : Prop :=
  (∀ (k0_h2 : k0_cond2 i = 1#1), 8 ∣ (k0_mult801 v6133).toNat) ∧
  (∀ (k0_h2 : k0_cond2 i = 1#1), ∀ a, (k0_off1621 v6133) a + S8x128.size a ≤ S131072x128.size a)
theorem k0_mult801_dvd : ∀ (i : grid0.Coords) (v6133 : BitVec 32) (k0_hw401 : k0_chk401 i v6133), ∀ (k0_h2 : k0_cond2 i = 1#1), 8 ∣ (k0_mult801 v6133).toNat := fun i v6133 k0_hw401 k0_h2 => k0_hw401.1 k0_h2
theorem k0_off1621_inb : ∀ (i : grid0.Coords) (v6133 : BitVec 32) (k0_hw401 : k0_chk401 i v6133), ∀ (k0_h2 : k0_cond2 i = 1#1), ∀ a, (k0_off1621 v6133) a + S8x128.size a ≤ S131072x128.size a := fun i v6133 k0_hw401 k0_h2 => k0_hw401.2 k0_h2

def k0_off1622 (i : grid0.Coords) : Fin 3 → Nat :=
  let c0_3815 : Index := 0#32
  let c0_3816 : Index := 0#32
  let arg1 : BitVec 32 := BitVec.ofNat 32 (i 1).val
  let c2_i32_3810 : BitVec 32 := 2#32
  let v6142 : BitVec 32 := Scalar.muli arg1 c2_i32_3810
  let c1_i32_3811 : BitVec 32 := 1#32
  let v6143 : BitVec 32 := Scalar.addi v6142 c1_i32_3811
  let c256_i32_3812 : BitVec 32 := 256#32
  let v6144 : BitVec 32 := Scalar.muli v6143 c256_i32_3812
  let c144_i32_3813 : BitVec 32 := 144#32
  let v6145 : BitVec 32 := Scalar.addi v6144 c144_i32_3813
  let v6147 : Index := Scalar.indexCast v6145
  ![0, 0, v6147.toNat]
def k0_mult803 (v6148 : BitVec 32) : BitVec 32 :=
  v6148

def k0_mult804 (i : grid0.Coords) : BitVec 32 :=
  let arg1 : BitVec 32 := BitVec.ofNat 32 (i 1).val
  let c2_i32_3810 : BitVec 32 := 2#32
  let v6142 : BitVec 32 := Scalar.muli arg1 c2_i32_3810
  let c1_i32_3811 : BitVec 32 := 1#32
  let v6143 : BitVec 32 := Scalar.addi v6142 c1_i32_3811
  let c256_i32_3812 : BitVec 32 := 256#32
  let v6144 : BitVec 32 := Scalar.muli v6143 c256_i32_3812
  let c144_i32_3813 : BitVec 32 := 144#32
  let v6145 : BitVec 32 := Scalar.addi v6144 c144_i32_3813
  let c8_i32_3817 : BitVec 32 := 8#32
  let v6150 : BitVec 32 := Scalar.muli v6145 c8_i32_3817
  v6150
def k0_off1623 (i : grid0.Coords) : Fin 1 → Nat :=
  let c1_i32_3814 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6146 : BitVec 32 := Scalar.subi c1_i32_3814 v9
  ![v6146.toNat]
def k0_off1624 (i : grid0.Coords) : Fin 3 → Nat :=
  let c1_i32_3814 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6146 : BitVec 32 := Scalar.subi c1_i32_3814 v9
  let arg1 : BitVec 32 := BitVec.ofNat 32 (i 1).val
  let c2_i32_3810 : BitVec 32 := 2#32
  let v6142 : BitVec 32 := Scalar.muli arg1 c2_i32_3810
  let c1_i32_3811 : BitVec 32 := 1#32
  let v6143 : BitVec 32 := Scalar.addi v6142 c1_i32_3811
  let c256_i32_3812 : BitVec 32 := 256#32
  let v6144 : BitVec 32 := Scalar.muli v6143 c256_i32_3812
  let c144_i32_3813 : BitVec 32 := 144#32
  let v6145 : BitVec 32 := Scalar.addi v6144 c144_i32_3813
  let c8_i32_3817 : BitVec 32 := 8#32
  let v6150 : BitVec 32 := Scalar.muli v6145 c8_i32_3817
  let v6151 : BitVec 32 := v6150
  let c0_i32_3818 : BitVec 32 := 0#32
  ![v6146.toNat, v6151.toNat, 0]
def k0_off1625 (v6148 : BitVec 32) : Fin 2 → Nat :=
  let v6149 : BitVec 32 := v6148
  let c0_i32_3819 : BitVec 32 := 0#32
  ![v6149.toNat, 0]

def k0_chk402 (i : grid0.Coords) (v6148 : BitVec 32) : Prop :=
  (∀ (k0_h2 : k0_cond2 i = 1#1), 8 ∣ (k0_mult803 v6148).toNat) ∧
  (∀ (k0_h2 : k0_cond2 i = 1#1), ∀ a, (k0_off1625 v6148) a + S8x128.size a ≤ S131072x128.size a)
theorem k0_mult803_dvd : ∀ (i : grid0.Coords) (v6148 : BitVec 32) (k0_hw402 : k0_chk402 i v6148), ∀ (k0_h2 : k0_cond2 i = 1#1), 8 ∣ (k0_mult803 v6148).toNat := fun i v6148 k0_hw402 k0_h2 => k0_hw402.1 k0_h2
theorem k0_off1625_inb : ∀ (i : grid0.Coords) (v6148 : BitVec 32) (k0_hw402 : k0_chk402 i v6148), ∀ (k0_h2 : k0_cond2 i = 1#1), ∀ a, (k0_off1625 v6148) a + S8x128.size a ≤ S131072x128.size a := fun i v6148 k0_hw402 k0_h2 => k0_hw402.2 k0_h2

def k0_off1626 (i : grid0.Coords) : Fin 3 → Nat :=
  let c0_3825 : Index := 0#32
  let c0_3826 : Index := 0#32
  let arg1 : BitVec 32 := BitVec.ofNat 32 (i 1).val
  let c2_i32_3820 : BitVec 32 := 2#32
  let v6157 : BitVec 32 := Scalar.muli arg1 c2_i32_3820
  let c1_i32_3821 : BitVec 32 := 1#32
  let v6158 : BitVec 32 := Scalar.addi v6157 c1_i32_3821
  let c256_i32_3822 : BitVec 32 := 256#32
  let v6159 : BitVec 32 := Scalar.muli v6158 c256_i32_3822
  let c145_i32_3823 : BitVec 32 := 145#32
  let v6160 : BitVec 32 := Scalar.addi v6159 c145_i32_3823
  let v6162 : Index := Scalar.indexCast v6160
  ![0, 0, v6162.toNat]
def k0_mult805 (v6163 : BitVec 32) : BitVec 32 :=
  v6163

def k0_mult806 (i : grid0.Coords) : BitVec 32 :=
  let arg1 : BitVec 32 := BitVec.ofNat 32 (i 1).val
  let c2_i32_3820 : BitVec 32 := 2#32
  let v6157 : BitVec 32 := Scalar.muli arg1 c2_i32_3820
  let c1_i32_3821 : BitVec 32 := 1#32
  let v6158 : BitVec 32 := Scalar.addi v6157 c1_i32_3821
  let c256_i32_3822 : BitVec 32 := 256#32
  let v6159 : BitVec 32 := Scalar.muli v6158 c256_i32_3822
  let c145_i32_3823 : BitVec 32 := 145#32
  let v6160 : BitVec 32 := Scalar.addi v6159 c145_i32_3823
  let c8_i32_3827 : BitVec 32 := 8#32
  let v6165 : BitVec 32 := Scalar.muli v6160 c8_i32_3827
  v6165
def k0_off1627 (i : grid0.Coords) : Fin 1 → Nat :=
  let c1_i32_3824 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6161 : BitVec 32 := Scalar.subi c1_i32_3824 v9
  ![v6161.toNat]
def k0_off1628 (i : grid0.Coords) : Fin 3 → Nat :=
  let c1_i32_3824 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6161 : BitVec 32 := Scalar.subi c1_i32_3824 v9
  let arg1 : BitVec 32 := BitVec.ofNat 32 (i 1).val
  let c2_i32_3820 : BitVec 32 := 2#32
  let v6157 : BitVec 32 := Scalar.muli arg1 c2_i32_3820
  let c1_i32_3821 : BitVec 32 := 1#32
  let v6158 : BitVec 32 := Scalar.addi v6157 c1_i32_3821
  let c256_i32_3822 : BitVec 32 := 256#32
  let v6159 : BitVec 32 := Scalar.muli v6158 c256_i32_3822
  let c145_i32_3823 : BitVec 32 := 145#32
  let v6160 : BitVec 32 := Scalar.addi v6159 c145_i32_3823
  let c8_i32_3827 : BitVec 32 := 8#32
  let v6165 : BitVec 32 := Scalar.muli v6160 c8_i32_3827
  let v6166 : BitVec 32 := v6165
  let c0_i32_3828 : BitVec 32 := 0#32
  ![v6161.toNat, v6166.toNat, 0]
def k0_off1629 (v6163 : BitVec 32) : Fin 2 → Nat :=
  let v6164 : BitVec 32 := v6163
  let c0_i32_3829 : BitVec 32 := 0#32
  ![v6164.toNat, 0]

def k0_chk403 (i : grid0.Coords) (v6163 : BitVec 32) : Prop :=
  (∀ (k0_h2 : k0_cond2 i = 1#1), 8 ∣ (k0_mult805 v6163).toNat) ∧
  (∀ (k0_h2 : k0_cond2 i = 1#1), ∀ a, (k0_off1629 v6163) a + S8x128.size a ≤ S131072x128.size a)
theorem k0_mult805_dvd : ∀ (i : grid0.Coords) (v6163 : BitVec 32) (k0_hw403 : k0_chk403 i v6163), ∀ (k0_h2 : k0_cond2 i = 1#1), 8 ∣ (k0_mult805 v6163).toNat := fun i v6163 k0_hw403 k0_h2 => k0_hw403.1 k0_h2
theorem k0_off1629_inb : ∀ (i : grid0.Coords) (v6163 : BitVec 32) (k0_hw403 : k0_chk403 i v6163), ∀ (k0_h2 : k0_cond2 i = 1#1), ∀ a, (k0_off1629 v6163) a + S8x128.size a ≤ S131072x128.size a := fun i v6163 k0_hw403 k0_h2 => k0_hw403.2 k0_h2

def k0_off1630 (i : grid0.Coords) : Fin 3 → Nat :=
  let c0_3835 : Index := 0#32
  let c0_3836 : Index := 0#32
  let arg1 : BitVec 32 := BitVec.ofNat 32 (i 1).val
  let c2_i32_3830 : BitVec 32 := 2#32
  let v6172 : BitVec 32 := Scalar.muli arg1 c2_i32_3830
  let c1_i32_3831 : BitVec 32 := 1#32
  let v6173 : BitVec 32 := Scalar.addi v6172 c1_i32_3831
  let c256_i32_3832 : BitVec 32 := 256#32
  let v6174 : BitVec 32 := Scalar.muli v6173 c256_i32_3832
  let c146_i32_3833 : BitVec 32 := 146#32
  let v6175 : BitVec 32 := Scalar.addi v6174 c146_i32_3833
  let v6177 : Index := Scalar.indexCast v6175
  ![0, 0, v6177.toNat]
def k0_mult807 (v6178 : BitVec 32) : BitVec 32 :=
  v6178

def k0_mult808 (i : grid0.Coords) : BitVec 32 :=
  let arg1 : BitVec 32 := BitVec.ofNat 32 (i 1).val
  let c2_i32_3830 : BitVec 32 := 2#32
  let v6172 : BitVec 32 := Scalar.muli arg1 c2_i32_3830
  let c1_i32_3831 : BitVec 32 := 1#32
  let v6173 : BitVec 32 := Scalar.addi v6172 c1_i32_3831
  let c256_i32_3832 : BitVec 32 := 256#32
  let v6174 : BitVec 32 := Scalar.muli v6173 c256_i32_3832
  let c146_i32_3833 : BitVec 32 := 146#32
  let v6175 : BitVec 32 := Scalar.addi v6174 c146_i32_3833
  let c8_i32_3837 : BitVec 32 := 8#32
  let v6180 : BitVec 32 := Scalar.muli v6175 c8_i32_3837
  v6180
def k0_off1631 (i : grid0.Coords) : Fin 1 → Nat :=
  let c1_i32_3834 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6176 : BitVec 32 := Scalar.subi c1_i32_3834 v9
  ![v6176.toNat]
def k0_off1632 (i : grid0.Coords) : Fin 3 → Nat :=
  let c1_i32_3834 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6176 : BitVec 32 := Scalar.subi c1_i32_3834 v9
  let arg1 : BitVec 32 := BitVec.ofNat 32 (i 1).val
  let c2_i32_3830 : BitVec 32 := 2#32
  let v6172 : BitVec 32 := Scalar.muli arg1 c2_i32_3830
  let c1_i32_3831 : BitVec 32 := 1#32
  let v6173 : BitVec 32 := Scalar.addi v6172 c1_i32_3831
  let c256_i32_3832 : BitVec 32 := 256#32
  let v6174 : BitVec 32 := Scalar.muli v6173 c256_i32_3832
  let c146_i32_3833 : BitVec 32 := 146#32
  let v6175 : BitVec 32 := Scalar.addi v6174 c146_i32_3833
  let c8_i32_3837 : BitVec 32 := 8#32
  let v6180 : BitVec 32 := Scalar.muli v6175 c8_i32_3837
  let v6181 : BitVec 32 := v6180
  let c0_i32_3838 : BitVec 32 := 0#32
  ![v6176.toNat, v6181.toNat, 0]
def k0_off1633 (v6178 : BitVec 32) : Fin 2 → Nat :=
  let v6179 : BitVec 32 := v6178
  let c0_i32_3839 : BitVec 32 := 0#32
  ![v6179.toNat, 0]

def k0_chk404 (i : grid0.Coords) (v6178 : BitVec 32) : Prop :=
  (∀ (k0_h2 : k0_cond2 i = 1#1), 8 ∣ (k0_mult807 v6178).toNat) ∧
  (∀ (k0_h2 : k0_cond2 i = 1#1), ∀ a, (k0_off1633 v6178) a + S8x128.size a ≤ S131072x128.size a)
theorem k0_mult807_dvd : ∀ (i : grid0.Coords) (v6178 : BitVec 32) (k0_hw404 : k0_chk404 i v6178), ∀ (k0_h2 : k0_cond2 i = 1#1), 8 ∣ (k0_mult807 v6178).toNat := fun i v6178 k0_hw404 k0_h2 => k0_hw404.1 k0_h2
theorem k0_off1633_inb : ∀ (i : grid0.Coords) (v6178 : BitVec 32) (k0_hw404 : k0_chk404 i v6178), ∀ (k0_h2 : k0_cond2 i = 1#1), ∀ a, (k0_off1633 v6178) a + S8x128.size a ≤ S131072x128.size a := fun i v6178 k0_hw404 k0_h2 => k0_hw404.2 k0_h2

def k0_off1634 (i : grid0.Coords) : Fin 3 → Nat :=
  let c0_3845 : Index := 0#32
  let c0_3846 : Index := 0#32
  let arg1 : BitVec 32 := BitVec.ofNat 32 (i 1).val
  let c2_i32_3840 : BitVec 32 := 2#32
  let v6187 : BitVec 32 := Scalar.muli arg1 c2_i32_3840
  let c1_i32_3841 : BitVec 32 := 1#32
  let v6188 : BitVec 32 := Scalar.addi v6187 c1_i32_3841
  let c256_i32_3842 : BitVec 32 := 256#32
  let v6189 : BitVec 32 := Scalar.muli v6188 c256_i32_3842
  let c147_i32_3843 : BitVec 32 := 147#32
  let v6190 : BitVec 32 := Scalar.addi v6189 c147_i32_3843
  let v6192 : Index := Scalar.indexCast v6190
  ![0, 0, v6192.toNat]
def k0_mult809 (v6193 : BitVec 32) : BitVec 32 :=
  v6193

def k0_mult810 (i : grid0.Coords) : BitVec 32 :=
  let arg1 : BitVec 32 := BitVec.ofNat 32 (i 1).val
  let c2_i32_3840 : BitVec 32 := 2#32
  let v6187 : BitVec 32 := Scalar.muli arg1 c2_i32_3840
  let c1_i32_3841 : BitVec 32 := 1#32
  let v6188 : BitVec 32 := Scalar.addi v6187 c1_i32_3841
  let c256_i32_3842 : BitVec 32 := 256#32
  let v6189 : BitVec 32 := Scalar.muli v6188 c256_i32_3842
  let c147_i32_3843 : BitVec 32 := 147#32
  let v6190 : BitVec 32 := Scalar.addi v6189 c147_i32_3843
  let c8_i32_3847 : BitVec 32 := 8#32
  let v6195 : BitVec 32 := Scalar.muli v6190 c8_i32_3847
  v6195
def k0_off1635 (i : grid0.Coords) : Fin 1 → Nat :=
  let c1_i32_3844 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6191 : BitVec 32 := Scalar.subi c1_i32_3844 v9
  ![v6191.toNat]
def k0_off1636 (i : grid0.Coords) : Fin 3 → Nat :=
  let c1_i32_3844 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6191 : BitVec 32 := Scalar.subi c1_i32_3844 v9
  let arg1 : BitVec 32 := BitVec.ofNat 32 (i 1).val
  let c2_i32_3840 : BitVec 32 := 2#32
  let v6187 : BitVec 32 := Scalar.muli arg1 c2_i32_3840
  let c1_i32_3841 : BitVec 32 := 1#32
  let v6188 : BitVec 32 := Scalar.addi v6187 c1_i32_3841
  let c256_i32_3842 : BitVec 32 := 256#32
  let v6189 : BitVec 32 := Scalar.muli v6188 c256_i32_3842
  let c147_i32_3843 : BitVec 32 := 147#32
  let v6190 : BitVec 32 := Scalar.addi v6189 c147_i32_3843
  let c8_i32_3847 : BitVec 32 := 8#32
  let v6195 : BitVec 32 := Scalar.muli v6190 c8_i32_3847
  let v6196 : BitVec 32 := v6195
  let c0_i32_3848 : BitVec 32 := 0#32
  ![v6191.toNat, v6196.toNat, 0]
def k0_off1637 (v6193 : BitVec 32) : Fin 2 → Nat :=
  let v6194 : BitVec 32 := v6193
  let c0_i32_3849 : BitVec 32 := 0#32
  ![v6194.toNat, 0]

def k0_chk405 (i : grid0.Coords) (v6193 : BitVec 32) : Prop :=
  (∀ (k0_h2 : k0_cond2 i = 1#1), 8 ∣ (k0_mult809 v6193).toNat) ∧
  (∀ (k0_h2 : k0_cond2 i = 1#1), ∀ a, (k0_off1637 v6193) a + S8x128.size a ≤ S131072x128.size a)
theorem k0_mult809_dvd : ∀ (i : grid0.Coords) (v6193 : BitVec 32) (k0_hw405 : k0_chk405 i v6193), ∀ (k0_h2 : k0_cond2 i = 1#1), 8 ∣ (k0_mult809 v6193).toNat := fun i v6193 k0_hw405 k0_h2 => k0_hw405.1 k0_h2
theorem k0_off1637_inb : ∀ (i : grid0.Coords) (v6193 : BitVec 32) (k0_hw405 : k0_chk405 i v6193), ∀ (k0_h2 : k0_cond2 i = 1#1), ∀ a, (k0_off1637 v6193) a + S8x128.size a ≤ S131072x128.size a := fun i v6193 k0_hw405 k0_h2 => k0_hw405.2 k0_h2

def k0_off1638 (i : grid0.Coords) : Fin 3 → Nat :=
  let c0_3855 : Index := 0#32
  let c0_3856 : Index := 0#32
  let arg1 : BitVec 32 := BitVec.ofNat 32 (i 1).val
  let c2_i32_3850 : BitVec 32 := 2#32
  let v6202 : BitVec 32 := Scalar.muli arg1 c2_i32_3850
  let c1_i32_3851 : BitVec 32 := 1#32
  let v6203 : BitVec 32 := Scalar.addi v6202 c1_i32_3851
  let c256_i32_3852 : BitVec 32 := 256#32
  let v6204 : BitVec 32 := Scalar.muli v6203 c256_i32_3852
  let c148_i32_3853 : BitVec 32 := 148#32
  let v6205 : BitVec 32 := Scalar.addi v6204 c148_i32_3853
  let v6207 : Index := Scalar.indexCast v6205
  ![0, 0, v6207.toNat]
def k0_mult811 (v6208 : BitVec 32) : BitVec 32 :=
  v6208

def k0_mult812 (i : grid0.Coords) : BitVec 32 :=
  let arg1 : BitVec 32 := BitVec.ofNat 32 (i 1).val
  let c2_i32_3850 : BitVec 32 := 2#32
  let v6202 : BitVec 32 := Scalar.muli arg1 c2_i32_3850
  let c1_i32_3851 : BitVec 32 := 1#32
  let v6203 : BitVec 32 := Scalar.addi v6202 c1_i32_3851
  let c256_i32_3852 : BitVec 32 := 256#32
  let v6204 : BitVec 32 := Scalar.muli v6203 c256_i32_3852
  let c148_i32_3853 : BitVec 32 := 148#32
  let v6205 : BitVec 32 := Scalar.addi v6204 c148_i32_3853
  let c8_i32_3857 : BitVec 32 := 8#32
  let v6210 : BitVec 32 := Scalar.muli v6205 c8_i32_3857
  v6210
def k0_off1639 (i : grid0.Coords) : Fin 1 → Nat :=
  let c1_i32_3854 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6206 : BitVec 32 := Scalar.subi c1_i32_3854 v9
  ![v6206.toNat]
def k0_off1640 (i : grid0.Coords) : Fin 3 → Nat :=
  let c1_i32_3854 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6206 : BitVec 32 := Scalar.subi c1_i32_3854 v9
  let arg1 : BitVec 32 := BitVec.ofNat 32 (i 1).val
  let c2_i32_3850 : BitVec 32 := 2#32
  let v6202 : BitVec 32 := Scalar.muli arg1 c2_i32_3850
  let c1_i32_3851 : BitVec 32 := 1#32
  let v6203 : BitVec 32 := Scalar.addi v6202 c1_i32_3851
  let c256_i32_3852 : BitVec 32 := 256#32
  let v6204 : BitVec 32 := Scalar.muli v6203 c256_i32_3852
  let c148_i32_3853 : BitVec 32 := 148#32
  let v6205 : BitVec 32 := Scalar.addi v6204 c148_i32_3853
  let c8_i32_3857 : BitVec 32 := 8#32
  let v6210 : BitVec 32 := Scalar.muli v6205 c8_i32_3857
  let v6211 : BitVec 32 := v6210
  let c0_i32_3858 : BitVec 32 := 0#32
  ![v6206.toNat, v6211.toNat, 0]
def k0_off1641 (v6208 : BitVec 32) : Fin 2 → Nat :=
  let v6209 : BitVec 32 := v6208
  let c0_i32_3859 : BitVec 32 := 0#32
  ![v6209.toNat, 0]

def k0_chk406 (i : grid0.Coords) (v6208 : BitVec 32) : Prop :=
  (∀ (k0_h2 : k0_cond2 i = 1#1), 8 ∣ (k0_mult811 v6208).toNat) ∧
  (∀ (k0_h2 : k0_cond2 i = 1#1), ∀ a, (k0_off1641 v6208) a + S8x128.size a ≤ S131072x128.size a)
theorem k0_mult811_dvd : ∀ (i : grid0.Coords) (v6208 : BitVec 32) (k0_hw406 : k0_chk406 i v6208), ∀ (k0_h2 : k0_cond2 i = 1#1), 8 ∣ (k0_mult811 v6208).toNat := fun i v6208 k0_hw406 k0_h2 => k0_hw406.1 k0_h2
theorem k0_off1641_inb : ∀ (i : grid0.Coords) (v6208 : BitVec 32) (k0_hw406 : k0_chk406 i v6208), ∀ (k0_h2 : k0_cond2 i = 1#1), ∀ a, (k0_off1641 v6208) a + S8x128.size a ≤ S131072x128.size a := fun i v6208 k0_hw406 k0_h2 => k0_hw406.2 k0_h2

def k0_off1642 (i : grid0.Coords) : Fin 3 → Nat :=
  let c0_3865 : Index := 0#32
  let c0_3866 : Index := 0#32
  let arg1 : BitVec 32 := BitVec.ofNat 32 (i 1).val
  let c2_i32_3860 : BitVec 32 := 2#32
  let v6217 : BitVec 32 := Scalar.muli arg1 c2_i32_3860
  let c1_i32_3861 : BitVec 32 := 1#32
  let v6218 : BitVec 32 := Scalar.addi v6217 c1_i32_3861
  let c256_i32_3862 : BitVec 32 := 256#32
  let v6219 : BitVec 32 := Scalar.muli v6218 c256_i32_3862
  let c149_i32_3863 : BitVec 32 := 149#32
  let v6220 : BitVec 32 := Scalar.addi v6219 c149_i32_3863
  let v6222 : Index := Scalar.indexCast v6220
  ![0, 0, v6222.toNat]
def k0_mult813 (v6223 : BitVec 32) : BitVec 32 :=
  v6223

def k0_mult814 (i : grid0.Coords) : BitVec 32 :=
  let arg1 : BitVec 32 := BitVec.ofNat 32 (i 1).val
  let c2_i32_3860 : BitVec 32 := 2#32
  let v6217 : BitVec 32 := Scalar.muli arg1 c2_i32_3860
  let c1_i32_3861 : BitVec 32 := 1#32
  let v6218 : BitVec 32 := Scalar.addi v6217 c1_i32_3861
  let c256_i32_3862 : BitVec 32 := 256#32
  let v6219 : BitVec 32 := Scalar.muli v6218 c256_i32_3862
  let c149_i32_3863 : BitVec 32 := 149#32
  let v6220 : BitVec 32 := Scalar.addi v6219 c149_i32_3863
  let c8_i32_3867 : BitVec 32 := 8#32
  let v6225 : BitVec 32 := Scalar.muli v6220 c8_i32_3867
  v6225
def k0_off1643 (i : grid0.Coords) : Fin 1 → Nat :=
  let c1_i32_3864 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6221 : BitVec 32 := Scalar.subi c1_i32_3864 v9
  ![v6221.toNat]
def k0_off1644 (i : grid0.Coords) : Fin 3 → Nat :=
  let c1_i32_3864 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6221 : BitVec 32 := Scalar.subi c1_i32_3864 v9
  let arg1 : BitVec 32 := BitVec.ofNat 32 (i 1).val
  let c2_i32_3860 : BitVec 32 := 2#32
  let v6217 : BitVec 32 := Scalar.muli arg1 c2_i32_3860
  let c1_i32_3861 : BitVec 32 := 1#32
  let v6218 : BitVec 32 := Scalar.addi v6217 c1_i32_3861
  let c256_i32_3862 : BitVec 32 := 256#32
  let v6219 : BitVec 32 := Scalar.muli v6218 c256_i32_3862
  let c149_i32_3863 : BitVec 32 := 149#32
  let v6220 : BitVec 32 := Scalar.addi v6219 c149_i32_3863
  let c8_i32_3867 : BitVec 32 := 8#32
  let v6225 : BitVec 32 := Scalar.muli v6220 c8_i32_3867
  let v6226 : BitVec 32 := v6225
  let c0_i32_3868 : BitVec 32 := 0#32
  ![v6221.toNat, v6226.toNat, 0]
def k0_off1645 (v6223 : BitVec 32) : Fin 2 → Nat :=
  let v6224 : BitVec 32 := v6223
  let c0_i32_3869 : BitVec 32 := 0#32
  ![v6224.toNat, 0]

def k0_chk407 (i : grid0.Coords) (v6223 : BitVec 32) : Prop :=
  (∀ (k0_h2 : k0_cond2 i = 1#1), 8 ∣ (k0_mult813 v6223).toNat) ∧
  (∀ (k0_h2 : k0_cond2 i = 1#1), ∀ a, (k0_off1645 v6223) a + S8x128.size a ≤ S131072x128.size a)
theorem k0_mult813_dvd : ∀ (i : grid0.Coords) (v6223 : BitVec 32) (k0_hw407 : k0_chk407 i v6223), ∀ (k0_h2 : k0_cond2 i = 1#1), 8 ∣ (k0_mult813 v6223).toNat := fun i v6223 k0_hw407 k0_h2 => k0_hw407.1 k0_h2
theorem k0_off1645_inb : ∀ (i : grid0.Coords) (v6223 : BitVec 32) (k0_hw407 : k0_chk407 i v6223), ∀ (k0_h2 : k0_cond2 i = 1#1), ∀ a, (k0_off1645 v6223) a + S8x128.size a ≤ S131072x128.size a := fun i v6223 k0_hw407 k0_h2 => k0_hw407.2 k0_h2

def k0_off1646 (i : grid0.Coords) : Fin 3 → Nat :=
  let c0_3875 : Index := 0#32
  let c0_3876 : Index := 0#32
  let arg1 : BitVec 32 := BitVec.ofNat 32 (i 1).val
  let c2_i32_3870 : BitVec 32 := 2#32
  let v6232 : BitVec 32 := Scalar.muli arg1 c2_i32_3870
  let c1_i32_3871 : BitVec 32 := 1#32
  let v6233 : BitVec 32 := Scalar.addi v6232 c1_i32_3871
  let c256_i32_3872 : BitVec 32 := 256#32
  let v6234 : BitVec 32 := Scalar.muli v6233 c256_i32_3872
  let c150_i32_3873 : BitVec 32 := 150#32
  let v6235 : BitVec 32 := Scalar.addi v6234 c150_i32_3873
  let v6237 : Index := Scalar.indexCast v6235
  ![0, 0, v6237.toNat]
def k0_mult815 (v6238 : BitVec 32) : BitVec 32 :=
  v6238

def k0_mult816 (i : grid0.Coords) : BitVec 32 :=
  let arg1 : BitVec 32 := BitVec.ofNat 32 (i 1).val
  let c2_i32_3870 : BitVec 32 := 2#32
  let v6232 : BitVec 32 := Scalar.muli arg1 c2_i32_3870
  let c1_i32_3871 : BitVec 32 := 1#32
  let v6233 : BitVec 32 := Scalar.addi v6232 c1_i32_3871
  let c256_i32_3872 : BitVec 32 := 256#32
  let v6234 : BitVec 32 := Scalar.muli v6233 c256_i32_3872
  let c150_i32_3873 : BitVec 32 := 150#32
  let v6235 : BitVec 32 := Scalar.addi v6234 c150_i32_3873
  let c8_i32_3877 : BitVec 32 := 8#32
  let v6240 : BitVec 32 := Scalar.muli v6235 c8_i32_3877
  v6240
def k0_off1647 (i : grid0.Coords) : Fin 1 → Nat :=
  let c1_i32_3874 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6236 : BitVec 32 := Scalar.subi c1_i32_3874 v9
  ![v6236.toNat]
def k0_off1648 (i : grid0.Coords) : Fin 3 → Nat :=
  let c1_i32_3874 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6236 : BitVec 32 := Scalar.subi c1_i32_3874 v9
  let arg1 : BitVec 32 := BitVec.ofNat 32 (i 1).val
  let c2_i32_3870 : BitVec 32 := 2#32
  let v6232 : BitVec 32 := Scalar.muli arg1 c2_i32_3870
  let c1_i32_3871 : BitVec 32 := 1#32
  let v6233 : BitVec 32 := Scalar.addi v6232 c1_i32_3871
  let c256_i32_3872 : BitVec 32 := 256#32
  let v6234 : BitVec 32 := Scalar.muli v6233 c256_i32_3872
  let c150_i32_3873 : BitVec 32 := 150#32
  let v6235 : BitVec 32 := Scalar.addi v6234 c150_i32_3873
  let c8_i32_3877 : BitVec 32 := 8#32
  let v6240 : BitVec 32 := Scalar.muli v6235 c8_i32_3877
  let v6241 : BitVec 32 := v6240
  let c0_i32_3878 : BitVec 32 := 0#32
  ![v6236.toNat, v6241.toNat, 0]
def k0_off1649 (v6238 : BitVec 32) : Fin 2 → Nat :=
  let v6239 : BitVec 32 := v6238
  let c0_i32_3879 : BitVec 32 := 0#32
  ![v6239.toNat, 0]

def k0_chk408 (i : grid0.Coords) (v6238 : BitVec 32) : Prop :=
  (∀ (k0_h2 : k0_cond2 i = 1#1), 8 ∣ (k0_mult815 v6238).toNat) ∧
  (∀ (k0_h2 : k0_cond2 i = 1#1), ∀ a, (k0_off1649 v6238) a + S8x128.size a ≤ S131072x128.size a)
theorem k0_mult815_dvd : ∀ (i : grid0.Coords) (v6238 : BitVec 32) (k0_hw408 : k0_chk408 i v6238), ∀ (k0_h2 : k0_cond2 i = 1#1), 8 ∣ (k0_mult815 v6238).toNat := fun i v6238 k0_hw408 k0_h2 => k0_hw408.1 k0_h2
theorem k0_off1649_inb : ∀ (i : grid0.Coords) (v6238 : BitVec 32) (k0_hw408 : k0_chk408 i v6238), ∀ (k0_h2 : k0_cond2 i = 1#1), ∀ a, (k0_off1649 v6238) a + S8x128.size a ≤ S131072x128.size a := fun i v6238 k0_hw408 k0_h2 => k0_hw408.2 k0_h2

def k0_off1650 (i : grid0.Coords) : Fin 3 → Nat :=
  let c0_3885 : Index := 0#32
  let c0_3886 : Index := 0#32
  let arg1 : BitVec 32 := BitVec.ofNat 32 (i 1).val
  let c2_i32_3880 : BitVec 32 := 2#32
  let v6247 : BitVec 32 := Scalar.muli arg1 c2_i32_3880
  let c1_i32_3881 : BitVec 32 := 1#32
  let v6248 : BitVec 32 := Scalar.addi v6247 c1_i32_3881
  let c256_i32_3882 : BitVec 32 := 256#32
  let v6249 : BitVec 32 := Scalar.muli v6248 c256_i32_3882
  let c151_i32_3883 : BitVec 32 := 151#32
  let v6250 : BitVec 32 := Scalar.addi v6249 c151_i32_3883
  let v6252 : Index := Scalar.indexCast v6250
  ![0, 0, v6252.toNat]
def k0_mult817 (v6253 : BitVec 32) : BitVec 32 :=
  v6253

def k0_mult818 (i : grid0.Coords) : BitVec 32 :=
  let arg1 : BitVec 32 := BitVec.ofNat 32 (i 1).val
  let c2_i32_3880 : BitVec 32 := 2#32
  let v6247 : BitVec 32 := Scalar.muli arg1 c2_i32_3880
  let c1_i32_3881 : BitVec 32 := 1#32
  let v6248 : BitVec 32 := Scalar.addi v6247 c1_i32_3881
  let c256_i32_3882 : BitVec 32 := 256#32
  let v6249 : BitVec 32 := Scalar.muli v6248 c256_i32_3882
  let c151_i32_3883 : BitVec 32 := 151#32
  let v6250 : BitVec 32 := Scalar.addi v6249 c151_i32_3883
  let c8_i32_3887 : BitVec 32 := 8#32
  let v6255 : BitVec 32 := Scalar.muli v6250 c8_i32_3887
  v6255
def k0_off1651 (i : grid0.Coords) : Fin 1 → Nat :=
  let c1_i32_3884 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6251 : BitVec 32 := Scalar.subi c1_i32_3884 v9
  ![v6251.toNat]
def k0_off1652 (i : grid0.Coords) : Fin 3 → Nat :=
  let c1_i32_3884 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6251 : BitVec 32 := Scalar.subi c1_i32_3884 v9
  let arg1 : BitVec 32 := BitVec.ofNat 32 (i 1).val
  let c2_i32_3880 : BitVec 32 := 2#32
  let v6247 : BitVec 32 := Scalar.muli arg1 c2_i32_3880
  let c1_i32_3881 : BitVec 32 := 1#32
  let v6248 : BitVec 32 := Scalar.addi v6247 c1_i32_3881
  let c256_i32_3882 : BitVec 32 := 256#32
  let v6249 : BitVec 32 := Scalar.muli v6248 c256_i32_3882
  let c151_i32_3883 : BitVec 32 := 151#32
  let v6250 : BitVec 32 := Scalar.addi v6249 c151_i32_3883
  let c8_i32_3887 : BitVec 32 := 8#32
  let v6255 : BitVec 32 := Scalar.muli v6250 c8_i32_3887
  let v6256 : BitVec 32 := v6255
  let c0_i32_3888 : BitVec 32 := 0#32
  ![v6251.toNat, v6256.toNat, 0]
def k0_off1653 (v6253 : BitVec 32) : Fin 2 → Nat :=
  let v6254 : BitVec 32 := v6253
  let c0_i32_3889 : BitVec 32 := 0#32
  ![v6254.toNat, 0]

def k0_chk409 (i : grid0.Coords) (v6253 : BitVec 32) : Prop :=
  (∀ (k0_h2 : k0_cond2 i = 1#1), 8 ∣ (k0_mult817 v6253).toNat) ∧
  (∀ (k0_h2 : k0_cond2 i = 1#1), ∀ a, (k0_off1653 v6253) a + S8x128.size a ≤ S131072x128.size a)
theorem k0_mult817_dvd : ∀ (i : grid0.Coords) (v6253 : BitVec 32) (k0_hw409 : k0_chk409 i v6253), ∀ (k0_h2 : k0_cond2 i = 1#1), 8 ∣ (k0_mult817 v6253).toNat := fun i v6253 k0_hw409 k0_h2 => k0_hw409.1 k0_h2
theorem k0_off1653_inb : ∀ (i : grid0.Coords) (v6253 : BitVec 32) (k0_hw409 : k0_chk409 i v6253), ∀ (k0_h2 : k0_cond2 i = 1#1), ∀ a, (k0_off1653 v6253) a + S8x128.size a ≤ S131072x128.size a := fun i v6253 k0_hw409 k0_h2 => k0_hw409.2 k0_h2

def k0_off1654 (i : grid0.Coords) : Fin 3 → Nat :=
  let c0_3895 : Index := 0#32
  let c0_3896 : Index := 0#32
  let arg1 : BitVec 32 := BitVec.ofNat 32 (i 1).val
  let c2_i32_3890 : BitVec 32 := 2#32
  let v6262 : BitVec 32 := Scalar.muli arg1 c2_i32_3890
  let c1_i32_3891 : BitVec 32 := 1#32
  let v6263 : BitVec 32 := Scalar.addi v6262 c1_i32_3891
  let c256_i32_3892 : BitVec 32 := 256#32
  let v6264 : BitVec 32 := Scalar.muli v6263 c256_i32_3892
  let c152_i32_3893 : BitVec 32 := 152#32
  let v6265 : BitVec 32 := Scalar.addi v6264 c152_i32_3893
  let v6267 : Index := Scalar.indexCast v6265
  ![0, 0, v6267.toNat]
def k0_mult819 (v6268 : BitVec 32) : BitVec 32 :=
  v6268

def k0_mult820 (i : grid0.Coords) : BitVec 32 :=
  let arg1 : BitVec 32 := BitVec.ofNat 32 (i 1).val
  let c2_i32_3890 : BitVec 32 := 2#32
  let v6262 : BitVec 32 := Scalar.muli arg1 c2_i32_3890
  let c1_i32_3891 : BitVec 32 := 1#32
  let v6263 : BitVec 32 := Scalar.addi v6262 c1_i32_3891
  let c256_i32_3892 : BitVec 32 := 256#32
  let v6264 : BitVec 32 := Scalar.muli v6263 c256_i32_3892
  let c152_i32_3893 : BitVec 32 := 152#32
  let v6265 : BitVec 32 := Scalar.addi v6264 c152_i32_3893
  let c8_i32_3897 : BitVec 32 := 8#32
  let v6270 : BitVec 32 := Scalar.muli v6265 c8_i32_3897
  v6270
def k0_off1655 (i : grid0.Coords) : Fin 1 → Nat :=
  let c1_i32_3894 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6266 : BitVec 32 := Scalar.subi c1_i32_3894 v9
  ![v6266.toNat]
def k0_off1656 (i : grid0.Coords) : Fin 3 → Nat :=
  let c1_i32_3894 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6266 : BitVec 32 := Scalar.subi c1_i32_3894 v9
  let arg1 : BitVec 32 := BitVec.ofNat 32 (i 1).val
  let c2_i32_3890 : BitVec 32 := 2#32
  let v6262 : BitVec 32 := Scalar.muli arg1 c2_i32_3890
  let c1_i32_3891 : BitVec 32 := 1#32
  let v6263 : BitVec 32 := Scalar.addi v6262 c1_i32_3891
  let c256_i32_3892 : BitVec 32 := 256#32
  let v6264 : BitVec 32 := Scalar.muli v6263 c256_i32_3892
  let c152_i32_3893 : BitVec 32 := 152#32
  let v6265 : BitVec 32 := Scalar.addi v6264 c152_i32_3893
  let c8_i32_3897 : BitVec 32 := 8#32
  let v6270 : BitVec 32 := Scalar.muli v6265 c8_i32_3897
  let v6271 : BitVec 32 := v6270
  let c0_i32_3898 : BitVec 32 := 0#32
  ![v6266.toNat, v6271.toNat, 0]
def k0_off1657 (v6268 : BitVec 32) : Fin 2 → Nat :=
  let v6269 : BitVec 32 := v6268
  let c0_i32_3899 : BitVec 32 := 0#32
  ![v6269.toNat, 0]

def k0_chk410 (i : grid0.Coords) (v6268 : BitVec 32) : Prop :=
  (∀ (k0_h2 : k0_cond2 i = 1#1), 8 ∣ (k0_mult819 v6268).toNat) ∧
  (∀ (k0_h2 : k0_cond2 i = 1#1), ∀ a, (k0_off1657 v6268) a + S8x128.size a ≤ S131072x128.size a)
theorem k0_mult819_dvd : ∀ (i : grid0.Coords) (v6268 : BitVec 32) (k0_hw410 : k0_chk410 i v6268), ∀ (k0_h2 : k0_cond2 i = 1#1), 8 ∣ (k0_mult819 v6268).toNat := fun i v6268 k0_hw410 k0_h2 => k0_hw410.1 k0_h2
theorem k0_off1657_inb : ∀ (i : grid0.Coords) (v6268 : BitVec 32) (k0_hw410 : k0_chk410 i v6268), ∀ (k0_h2 : k0_cond2 i = 1#1), ∀ a, (k0_off1657 v6268) a + S8x128.size a ≤ S131072x128.size a := fun i v6268 k0_hw410 k0_h2 => k0_hw410.2 k0_h2

def k0_off1658 (i : grid0.Coords) : Fin 3 → Nat :=
  let c0_3905 : Index := 0#32
  let c0_3906 : Index := 0#32
  let arg1 : BitVec 32 := BitVec.ofNat 32 (i 1).val
  let c2_i32_3900 : BitVec 32 := 2#32
  let v6277 : BitVec 32 := Scalar.muli arg1 c2_i32_3900
  let c1_i32_3901 : BitVec 32 := 1#32
  let v6278 : BitVec 32 := Scalar.addi v6277 c1_i32_3901
  let c256_i32_3902 : BitVec 32 := 256#32
  let v6279 : BitVec 32 := Scalar.muli v6278 c256_i32_3902
  let c153_i32_3903 : BitVec 32 := 153#32
  let v6280 : BitVec 32 := Scalar.addi v6279 c153_i32_3903
  let v6282 : Index := Scalar.indexCast v6280
  ![0, 0, v6282.toNat]
def k0_mult821 (v6283 : BitVec 32) : BitVec 32 :=
  v6283

def k0_mult822 (i : grid0.Coords) : BitVec 32 :=
  let arg1 : BitVec 32 := BitVec.ofNat 32 (i 1).val
  let c2_i32_3900 : BitVec 32 := 2#32
  let v6277 : BitVec 32 := Scalar.muli arg1 c2_i32_3900
  let c1_i32_3901 : BitVec 32 := 1#32
  let v6278 : BitVec 32 := Scalar.addi v6277 c1_i32_3901
  let c256_i32_3902 : BitVec 32 := 256#32
  let v6279 : BitVec 32 := Scalar.muli v6278 c256_i32_3902
  let c153_i32_3903 : BitVec 32 := 153#32
  let v6280 : BitVec 32 := Scalar.addi v6279 c153_i32_3903
  let c8_i32_3907 : BitVec 32 := 8#32
  let v6285 : BitVec 32 := Scalar.muli v6280 c8_i32_3907
  v6285
def k0_off1659 (i : grid0.Coords) : Fin 1 → Nat :=
  let c1_i32_3904 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6281 : BitVec 32 := Scalar.subi c1_i32_3904 v9
  ![v6281.toNat]
def k0_off1660 (i : grid0.Coords) : Fin 3 → Nat :=
  let c1_i32_3904 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6281 : BitVec 32 := Scalar.subi c1_i32_3904 v9
  let arg1 : BitVec 32 := BitVec.ofNat 32 (i 1).val
  let c2_i32_3900 : BitVec 32 := 2#32
  let v6277 : BitVec 32 := Scalar.muli arg1 c2_i32_3900
  let c1_i32_3901 : BitVec 32 := 1#32
  let v6278 : BitVec 32 := Scalar.addi v6277 c1_i32_3901
  let c256_i32_3902 : BitVec 32 := 256#32
  let v6279 : BitVec 32 := Scalar.muli v6278 c256_i32_3902
  let c153_i32_3903 : BitVec 32 := 153#32
  let v6280 : BitVec 32 := Scalar.addi v6279 c153_i32_3903
  let c8_i32_3907 : BitVec 32 := 8#32
  let v6285 : BitVec 32 := Scalar.muli v6280 c8_i32_3907
  let v6286 : BitVec 32 := v6285
  let c0_i32_3908 : BitVec 32 := 0#32
  ![v6281.toNat, v6286.toNat, 0]
def k0_off1661 (v6283 : BitVec 32) : Fin 2 → Nat :=
  let v6284 : BitVec 32 := v6283
  let c0_i32_3909 : BitVec 32 := 0#32
  ![v6284.toNat, 0]

def k0_chk411 (i : grid0.Coords) (v6283 : BitVec 32) : Prop :=
  (∀ (k0_h2 : k0_cond2 i = 1#1), 8 ∣ (k0_mult821 v6283).toNat) ∧
  (∀ (k0_h2 : k0_cond2 i = 1#1), ∀ a, (k0_off1661 v6283) a + S8x128.size a ≤ S131072x128.size a)
theorem k0_mult821_dvd : ∀ (i : grid0.Coords) (v6283 : BitVec 32) (k0_hw411 : k0_chk411 i v6283), ∀ (k0_h2 : k0_cond2 i = 1#1), 8 ∣ (k0_mult821 v6283).toNat := fun i v6283 k0_hw411 k0_h2 => k0_hw411.1 k0_h2
theorem k0_off1661_inb : ∀ (i : grid0.Coords) (v6283 : BitVec 32) (k0_hw411 : k0_chk411 i v6283), ∀ (k0_h2 : k0_cond2 i = 1#1), ∀ a, (k0_off1661 v6283) a + S8x128.size a ≤ S131072x128.size a := fun i v6283 k0_hw411 k0_h2 => k0_hw411.2 k0_h2

def k0_off1662 (i : grid0.Coords) : Fin 3 → Nat :=
  let c0_3915 : Index := 0#32
  let c0_3916 : Index := 0#32
  let arg1 : BitVec 32 := BitVec.ofNat 32 (i 1).val
  let c2_i32_3910 : BitVec 32 := 2#32
  let v6292 : BitVec 32 := Scalar.muli arg1 c2_i32_3910
  let c1_i32_3911 : BitVec 32 := 1#32
  let v6293 : BitVec 32 := Scalar.addi v6292 c1_i32_3911
  let c256_i32_3912 : BitVec 32 := 256#32
  let v6294 : BitVec 32 := Scalar.muli v6293 c256_i32_3912
  let c154_i32_3913 : BitVec 32 := 154#32
  let v6295 : BitVec 32 := Scalar.addi v6294 c154_i32_3913
  let v6297 : Index := Scalar.indexCast v6295
  ![0, 0, v6297.toNat]
def k0_mult823 (v6298 : BitVec 32) : BitVec 32 :=
  v6298

def k0_mult824 (i : grid0.Coords) : BitVec 32 :=
  let arg1 : BitVec 32 := BitVec.ofNat 32 (i 1).val
  let c2_i32_3910 : BitVec 32 := 2#32
  let v6292 : BitVec 32 := Scalar.muli arg1 c2_i32_3910
  let c1_i32_3911 : BitVec 32 := 1#32
  let v6293 : BitVec 32 := Scalar.addi v6292 c1_i32_3911
  let c256_i32_3912 : BitVec 32 := 256#32
  let v6294 : BitVec 32 := Scalar.muli v6293 c256_i32_3912
  let c154_i32_3913 : BitVec 32 := 154#32
  let v6295 : BitVec 32 := Scalar.addi v6294 c154_i32_3913
  let c8_i32_3917 : BitVec 32 := 8#32
  let v6300 : BitVec 32 := Scalar.muli v6295 c8_i32_3917
  v6300
def k0_off1663 (i : grid0.Coords) : Fin 1 → Nat :=
  let c1_i32_3914 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6296 : BitVec 32 := Scalar.subi c1_i32_3914 v9
  ![v6296.toNat]
def k0_off1664 (i : grid0.Coords) : Fin 3 → Nat :=
  let c1_i32_3914 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6296 : BitVec 32 := Scalar.subi c1_i32_3914 v9
  let arg1 : BitVec 32 := BitVec.ofNat 32 (i 1).val
  let c2_i32_3910 : BitVec 32 := 2#32
  let v6292 : BitVec 32 := Scalar.muli arg1 c2_i32_3910
  let c1_i32_3911 : BitVec 32 := 1#32
  let v6293 : BitVec 32 := Scalar.addi v6292 c1_i32_3911
  let c256_i32_3912 : BitVec 32 := 256#32
  let v6294 : BitVec 32 := Scalar.muli v6293 c256_i32_3912
  let c154_i32_3913 : BitVec 32 := 154#32
  let v6295 : BitVec 32 := Scalar.addi v6294 c154_i32_3913
  let c8_i32_3917 : BitVec 32 := 8#32
  let v6300 : BitVec 32 := Scalar.muli v6295 c8_i32_3917
  let v6301 : BitVec 32 := v6300
  let c0_i32_3918 : BitVec 32 := 0#32
  ![v6296.toNat, v6301.toNat, 0]
def k0_off1665 (v6298 : BitVec 32) : Fin 2 → Nat :=
  let v6299 : BitVec 32 := v6298
  let c0_i32_3919 : BitVec 32 := 0#32
  ![v6299.toNat, 0]

def k0_chk412 (i : grid0.Coords) (v6298 : BitVec 32) : Prop :=
  (∀ (k0_h2 : k0_cond2 i = 1#1), 8 ∣ (k0_mult823 v6298).toNat) ∧
  (∀ (k0_h2 : k0_cond2 i = 1#1), ∀ a, (k0_off1665 v6298) a + S8x128.size a ≤ S131072x128.size a)
theorem k0_mult823_dvd : ∀ (i : grid0.Coords) (v6298 : BitVec 32) (k0_hw412 : k0_chk412 i v6298), ∀ (k0_h2 : k0_cond2 i = 1#1), 8 ∣ (k0_mult823 v6298).toNat := fun i v6298 k0_hw412 k0_h2 => k0_hw412.1 k0_h2
theorem k0_off1665_inb : ∀ (i : grid0.Coords) (v6298 : BitVec 32) (k0_hw412 : k0_chk412 i v6298), ∀ (k0_h2 : k0_cond2 i = 1#1), ∀ a, (k0_off1665 v6298) a + S8x128.size a ≤ S131072x128.size a := fun i v6298 k0_hw412 k0_h2 => k0_hw412.2 k0_h2

def k0_off1666 (i : grid0.Coords) : Fin 3 → Nat :=
  let c0_3925 : Index := 0#32
  let c0_3926 : Index := 0#32
  let arg1 : BitVec 32 := BitVec.ofNat 32 (i 1).val
  let c2_i32_3920 : BitVec 32 := 2#32
  let v6307 : BitVec 32 := Scalar.muli arg1 c2_i32_3920
  let c1_i32_3921 : BitVec 32 := 1#32
  let v6308 : BitVec 32 := Scalar.addi v6307 c1_i32_3921
  let c256_i32_3922 : BitVec 32 := 256#32
  let v6309 : BitVec 32 := Scalar.muli v6308 c256_i32_3922
  let c155_i32_3923 : BitVec 32 := 155#32
  let v6310 : BitVec 32 := Scalar.addi v6309 c155_i32_3923
  let v6312 : Index := Scalar.indexCast v6310
  ![0, 0, v6312.toNat]
def k0_mult825 (v6313 : BitVec 32) : BitVec 32 :=
  v6313

def k0_mult826 (i : grid0.Coords) : BitVec 32 :=
  let arg1 : BitVec 32 := BitVec.ofNat 32 (i 1).val
  let c2_i32_3920 : BitVec 32 := 2#32
  let v6307 : BitVec 32 := Scalar.muli arg1 c2_i32_3920
  let c1_i32_3921 : BitVec 32 := 1#32
  let v6308 : BitVec 32 := Scalar.addi v6307 c1_i32_3921
  let c256_i32_3922 : BitVec 32 := 256#32
  let v6309 : BitVec 32 := Scalar.muli v6308 c256_i32_3922
  let c155_i32_3923 : BitVec 32 := 155#32
  let v6310 : BitVec 32 := Scalar.addi v6309 c155_i32_3923
  let c8_i32_3927 : BitVec 32 := 8#32
  let v6315 : BitVec 32 := Scalar.muli v6310 c8_i32_3927
  v6315
def k0_off1667 (i : grid0.Coords) : Fin 1 → Nat :=
  let c1_i32_3924 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6311 : BitVec 32 := Scalar.subi c1_i32_3924 v9
  ![v6311.toNat]
def k0_off1668 (i : grid0.Coords) : Fin 3 → Nat :=
  let c1_i32_3924 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6311 : BitVec 32 := Scalar.subi c1_i32_3924 v9
  let arg1 : BitVec 32 := BitVec.ofNat 32 (i 1).val
  let c2_i32_3920 : BitVec 32 := 2#32
  let v6307 : BitVec 32 := Scalar.muli arg1 c2_i32_3920
  let c1_i32_3921 : BitVec 32 := 1#32
  let v6308 : BitVec 32 := Scalar.addi v6307 c1_i32_3921
  let c256_i32_3922 : BitVec 32 := 256#32
  let v6309 : BitVec 32 := Scalar.muli v6308 c256_i32_3922
  let c155_i32_3923 : BitVec 32 := 155#32
  let v6310 : BitVec 32 := Scalar.addi v6309 c155_i32_3923
  let c8_i32_3927 : BitVec 32 := 8#32
  let v6315 : BitVec 32 := Scalar.muli v6310 c8_i32_3927
  let v6316 : BitVec 32 := v6315
  let c0_i32_3928 : BitVec 32 := 0#32
  ![v6311.toNat, v6316.toNat, 0]
def k0_off1669 (v6313 : BitVec 32) : Fin 2 → Nat :=
  let v6314 : BitVec 32 := v6313
  let c0_i32_3929 : BitVec 32 := 0#32
  ![v6314.toNat, 0]

def k0_chk413 (i : grid0.Coords) (v6313 : BitVec 32) : Prop :=
  (∀ (k0_h2 : k0_cond2 i = 1#1), 8 ∣ (k0_mult825 v6313).toNat) ∧
  (∀ (k0_h2 : k0_cond2 i = 1#1), ∀ a, (k0_off1669 v6313) a + S8x128.size a ≤ S131072x128.size a)
theorem k0_mult825_dvd : ∀ (i : grid0.Coords) (v6313 : BitVec 32) (k0_hw413 : k0_chk413 i v6313), ∀ (k0_h2 : k0_cond2 i = 1#1), 8 ∣ (k0_mult825 v6313).toNat := fun i v6313 k0_hw413 k0_h2 => k0_hw413.1 k0_h2
theorem k0_off1669_inb : ∀ (i : grid0.Coords) (v6313 : BitVec 32) (k0_hw413 : k0_chk413 i v6313), ∀ (k0_h2 : k0_cond2 i = 1#1), ∀ a, (k0_off1669 v6313) a + S8x128.size a ≤ S131072x128.size a := fun i v6313 k0_hw413 k0_h2 => k0_hw413.2 k0_h2

def k0_off1670 (i : grid0.Coords) : Fin 3 → Nat :=
  let c0_3935 : Index := 0#32
  let c0_3936 : Index := 0#32
  let arg1 : BitVec 32 := BitVec.ofNat 32 (i 1).val
  let c2_i32_3930 : BitVec 32 := 2#32
  let v6322 : BitVec 32 := Scalar.muli arg1 c2_i32_3930
  let c1_i32_3931 : BitVec 32 := 1#32
  let v6323 : BitVec 32 := Scalar.addi v6322 c1_i32_3931
  let c256_i32_3932 : BitVec 32 := 256#32
  let v6324 : BitVec 32 := Scalar.muli v6323 c256_i32_3932
  let c156_i32_3933 : BitVec 32 := 156#32
  let v6325 : BitVec 32 := Scalar.addi v6324 c156_i32_3933
  let v6327 : Index := Scalar.indexCast v6325
  ![0, 0, v6327.toNat]
def k0_mult827 (v6328 : BitVec 32) : BitVec 32 :=
  v6328

def k0_mult828 (i : grid0.Coords) : BitVec 32 :=
  let arg1 : BitVec 32 := BitVec.ofNat 32 (i 1).val
  let c2_i32_3930 : BitVec 32 := 2#32
  let v6322 : BitVec 32 := Scalar.muli arg1 c2_i32_3930
  let c1_i32_3931 : BitVec 32 := 1#32
  let v6323 : BitVec 32 := Scalar.addi v6322 c1_i32_3931
  let c256_i32_3932 : BitVec 32 := 256#32
  let v6324 : BitVec 32 := Scalar.muli v6323 c256_i32_3932
  let c156_i32_3933 : BitVec 32 := 156#32
  let v6325 : BitVec 32 := Scalar.addi v6324 c156_i32_3933
  let c8_i32_3937 : BitVec 32 := 8#32
  let v6330 : BitVec 32 := Scalar.muli v6325 c8_i32_3937
  v6330
def k0_off1671 (i : grid0.Coords) : Fin 1 → Nat :=
  let c1_i32_3934 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6326 : BitVec 32 := Scalar.subi c1_i32_3934 v9
  ![v6326.toNat]
def k0_off1672 (i : grid0.Coords) : Fin 3 → Nat :=
  let c1_i32_3934 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6326 : BitVec 32 := Scalar.subi c1_i32_3934 v9
  let arg1 : BitVec 32 := BitVec.ofNat 32 (i 1).val
  let c2_i32_3930 : BitVec 32 := 2#32
  let v6322 : BitVec 32 := Scalar.muli arg1 c2_i32_3930
  let c1_i32_3931 : BitVec 32 := 1#32
  let v6323 : BitVec 32 := Scalar.addi v6322 c1_i32_3931
  let c256_i32_3932 : BitVec 32 := 256#32
  let v6324 : BitVec 32 := Scalar.muli v6323 c256_i32_3932
  let c156_i32_3933 : BitVec 32 := 156#32
  let v6325 : BitVec 32 := Scalar.addi v6324 c156_i32_3933
  let c8_i32_3937 : BitVec 32 := 8#32
  let v6330 : BitVec 32 := Scalar.muli v6325 c8_i32_3937
  let v6331 : BitVec 32 := v6330
  let c0_i32_3938 : BitVec 32 := 0#32
  ![v6326.toNat, v6331.toNat, 0]
def k0_off1673 (v6328 : BitVec 32) : Fin 2 → Nat :=
  let v6329 : BitVec 32 := v6328
  let c0_i32_3939 : BitVec 32 := 0#32
  ![v6329.toNat, 0]

def k0_chk414 (i : grid0.Coords) (v6328 : BitVec 32) : Prop :=
  (∀ (k0_h2 : k0_cond2 i = 1#1), 8 ∣ (k0_mult827 v6328).toNat) ∧
  (∀ (k0_h2 : k0_cond2 i = 1#1), ∀ a, (k0_off1673 v6328) a + S8x128.size a ≤ S131072x128.size a)
theorem k0_mult827_dvd : ∀ (i : grid0.Coords) (v6328 : BitVec 32) (k0_hw414 : k0_chk414 i v6328), ∀ (k0_h2 : k0_cond2 i = 1#1), 8 ∣ (k0_mult827 v6328).toNat := fun i v6328 k0_hw414 k0_h2 => k0_hw414.1 k0_h2
theorem k0_off1673_inb : ∀ (i : grid0.Coords) (v6328 : BitVec 32) (k0_hw414 : k0_chk414 i v6328), ∀ (k0_h2 : k0_cond2 i = 1#1), ∀ a, (k0_off1673 v6328) a + S8x128.size a ≤ S131072x128.size a := fun i v6328 k0_hw414 k0_h2 => k0_hw414.2 k0_h2

def k0_off1674 (i : grid0.Coords) : Fin 3 → Nat :=
  let c0_3945 : Index := 0#32
  let c0_3946 : Index := 0#32
  let arg1 : BitVec 32 := BitVec.ofNat 32 (i 1).val
  let c2_i32_3940 : BitVec 32 := 2#32
  let v6337 : BitVec 32 := Scalar.muli arg1 c2_i32_3940
  let c1_i32_3941 : BitVec 32 := 1#32
  let v6338 : BitVec 32 := Scalar.addi v6337 c1_i32_3941
  let c256_i32_3942 : BitVec 32 := 256#32
  let v6339 : BitVec 32 := Scalar.muli v6338 c256_i32_3942
  let c157_i32_3943 : BitVec 32 := 157#32
  let v6340 : BitVec 32 := Scalar.addi v6339 c157_i32_3943
  let v6342 : Index := Scalar.indexCast v6340
  ![0, 0, v6342.toNat]
def k0_mult829 (v6343 : BitVec 32) : BitVec 32 :=
  v6343

def k0_mult830 (i : grid0.Coords) : BitVec 32 :=
  let arg1 : BitVec 32 := BitVec.ofNat 32 (i 1).val
  let c2_i32_3940 : BitVec 32 := 2#32
  let v6337 : BitVec 32 := Scalar.muli arg1 c2_i32_3940
  let c1_i32_3941 : BitVec 32 := 1#32
  let v6338 : BitVec 32 := Scalar.addi v6337 c1_i32_3941
  let c256_i32_3942 : BitVec 32 := 256#32
  let v6339 : BitVec 32 := Scalar.muli v6338 c256_i32_3942
  let c157_i32_3943 : BitVec 32 := 157#32
  let v6340 : BitVec 32 := Scalar.addi v6339 c157_i32_3943
  let c8_i32_3947 : BitVec 32 := 8#32
  let v6345 : BitVec 32 := Scalar.muli v6340 c8_i32_3947
  v6345
def k0_off1675 (i : grid0.Coords) : Fin 1 → Nat :=
  let c1_i32_3944 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6341 : BitVec 32 := Scalar.subi c1_i32_3944 v9
  ![v6341.toNat]
def k0_off1676 (i : grid0.Coords) : Fin 3 → Nat :=
  let c1_i32_3944 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6341 : BitVec 32 := Scalar.subi c1_i32_3944 v9
  let arg1 : BitVec 32 := BitVec.ofNat 32 (i 1).val
  let c2_i32_3940 : BitVec 32 := 2#32
  let v6337 : BitVec 32 := Scalar.muli arg1 c2_i32_3940
  let c1_i32_3941 : BitVec 32 := 1#32
  let v6338 : BitVec 32 := Scalar.addi v6337 c1_i32_3941
  let c256_i32_3942 : BitVec 32 := 256#32
  let v6339 : BitVec 32 := Scalar.muli v6338 c256_i32_3942
  let c157_i32_3943 : BitVec 32 := 157#32
  let v6340 : BitVec 32 := Scalar.addi v6339 c157_i32_3943
  let c8_i32_3947 : BitVec 32 := 8#32
  let v6345 : BitVec 32 := Scalar.muli v6340 c8_i32_3947
  let v6346 : BitVec 32 := v6345
  let c0_i32_3948 : BitVec 32 := 0#32
  ![v6341.toNat, v6346.toNat, 0]
def k0_off1677 (v6343 : BitVec 32) : Fin 2 → Nat :=
  let v6344 : BitVec 32 := v6343
  let c0_i32_3949 : BitVec 32 := 0#32
  ![v6344.toNat, 0]

def k0_chk415 (i : grid0.Coords) (v6343 : BitVec 32) : Prop :=
  (∀ (k0_h2 : k0_cond2 i = 1#1), 8 ∣ (k0_mult829 v6343).toNat) ∧
  (∀ (k0_h2 : k0_cond2 i = 1#1), ∀ a, (k0_off1677 v6343) a + S8x128.size a ≤ S131072x128.size a)
theorem k0_mult829_dvd : ∀ (i : grid0.Coords) (v6343 : BitVec 32) (k0_hw415 : k0_chk415 i v6343), ∀ (k0_h2 : k0_cond2 i = 1#1), 8 ∣ (k0_mult829 v6343).toNat := fun i v6343 k0_hw415 k0_h2 => k0_hw415.1 k0_h2
theorem k0_off1677_inb : ∀ (i : grid0.Coords) (v6343 : BitVec 32) (k0_hw415 : k0_chk415 i v6343), ∀ (k0_h2 : k0_cond2 i = 1#1), ∀ a, (k0_off1677 v6343) a + S8x128.size a ≤ S131072x128.size a := fun i v6343 k0_hw415 k0_h2 => k0_hw415.2 k0_h2

def k0_off1678 (i : grid0.Coords) : Fin 3 → Nat :=
  let c0_3955 : Index := 0#32
  let c0_3956 : Index := 0#32
  let arg1 : BitVec 32 := BitVec.ofNat 32 (i 1).val
  let c2_i32_3950 : BitVec 32 := 2#32
  let v6352 : BitVec 32 := Scalar.muli arg1 c2_i32_3950
  let c1_i32_3951 : BitVec 32 := 1#32
  let v6353 : BitVec 32 := Scalar.addi v6352 c1_i32_3951
  let c256_i32_3952 : BitVec 32 := 256#32
  let v6354 : BitVec 32 := Scalar.muli v6353 c256_i32_3952
  let c158_i32_3953 : BitVec 32 := 158#32
  let v6355 : BitVec 32 := Scalar.addi v6354 c158_i32_3953
  let v6357 : Index := Scalar.indexCast v6355
  ![0, 0, v6357.toNat]
def k0_mult831 (v6358 : BitVec 32) : BitVec 32 :=
  v6358

def k0_mult832 (i : grid0.Coords) : BitVec 32 :=
  let arg1 : BitVec 32 := BitVec.ofNat 32 (i 1).val
  let c2_i32_3950 : BitVec 32 := 2#32
  let v6352 : BitVec 32 := Scalar.muli arg1 c2_i32_3950
  let c1_i32_3951 : BitVec 32 := 1#32
  let v6353 : BitVec 32 := Scalar.addi v6352 c1_i32_3951
  let c256_i32_3952 : BitVec 32 := 256#32
  let v6354 : BitVec 32 := Scalar.muli v6353 c256_i32_3952
  let c158_i32_3953 : BitVec 32 := 158#32
  let v6355 : BitVec 32 := Scalar.addi v6354 c158_i32_3953
  let c8_i32_3957 : BitVec 32 := 8#32
  let v6360 : BitVec 32 := Scalar.muli v6355 c8_i32_3957
  v6360
def k0_off1679 (i : grid0.Coords) : Fin 1 → Nat :=
  let c1_i32_3954 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6356 : BitVec 32 := Scalar.subi c1_i32_3954 v9
  ![v6356.toNat]
def k0_off1680 (i : grid0.Coords) : Fin 3 → Nat :=
  let c1_i32_3954 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6356 : BitVec 32 := Scalar.subi c1_i32_3954 v9
  let arg1 : BitVec 32 := BitVec.ofNat 32 (i 1).val
  let c2_i32_3950 : BitVec 32 := 2#32
  let v6352 : BitVec 32 := Scalar.muli arg1 c2_i32_3950
  let c1_i32_3951 : BitVec 32 := 1#32
  let v6353 : BitVec 32 := Scalar.addi v6352 c1_i32_3951
  let c256_i32_3952 : BitVec 32 := 256#32
  let v6354 : BitVec 32 := Scalar.muli v6353 c256_i32_3952
  let c158_i32_3953 : BitVec 32 := 158#32
  let v6355 : BitVec 32 := Scalar.addi v6354 c158_i32_3953
  let c8_i32_3957 : BitVec 32 := 8#32
  let v6360 : BitVec 32 := Scalar.muli v6355 c8_i32_3957
  let v6361 : BitVec 32 := v6360
  let c0_i32_3958 : BitVec 32 := 0#32
  ![v6356.toNat, v6361.toNat, 0]
def k0_off1681 (v6358 : BitVec 32) : Fin 2 → Nat :=
  let v6359 : BitVec 32 := v6358
  let c0_i32_3959 : BitVec 32 := 0#32
  ![v6359.toNat, 0]

def k0_chk416 (i : grid0.Coords) (v6358 : BitVec 32) : Prop :=
  (∀ (k0_h2 : k0_cond2 i = 1#1), 8 ∣ (k0_mult831 v6358).toNat) ∧
  (∀ (k0_h2 : k0_cond2 i = 1#1), ∀ a, (k0_off1681 v6358) a + S8x128.size a ≤ S131072x128.size a)
theorem k0_mult831_dvd : ∀ (i : grid0.Coords) (v6358 : BitVec 32) (k0_hw416 : k0_chk416 i v6358), ∀ (k0_h2 : k0_cond2 i = 1#1), 8 ∣ (k0_mult831 v6358).toNat := fun i v6358 k0_hw416 k0_h2 => k0_hw416.1 k0_h2
theorem k0_off1681_inb : ∀ (i : grid0.Coords) (v6358 : BitVec 32) (k0_hw416 : k0_chk416 i v6358), ∀ (k0_h2 : k0_cond2 i = 1#1), ∀ a, (k0_off1681 v6358) a + S8x128.size a ≤ S131072x128.size a := fun i v6358 k0_hw416 k0_h2 => k0_hw416.2 k0_h2

def k0_off1682 (i : grid0.Coords) : Fin 3 → Nat :=
  let c0_3965 : Index := 0#32
  let c0_3966 : Index := 0#32
  let arg1 : BitVec 32 := BitVec.ofNat 32 (i 1).val
  let c2_i32_3960 : BitVec 32 := 2#32
  let v6367 : BitVec 32 := Scalar.muli arg1 c2_i32_3960
  let c1_i32_3961 : BitVec 32 := 1#32
  let v6368 : BitVec 32 := Scalar.addi v6367 c1_i32_3961
  let c256_i32_3962 : BitVec 32 := 256#32
  let v6369 : BitVec 32 := Scalar.muli v6368 c256_i32_3962
  let c159_i32_3963 : BitVec 32 := 159#32
  let v6370 : BitVec 32 := Scalar.addi v6369 c159_i32_3963
  let v6372 : Index := Scalar.indexCast v6370
  ![0, 0, v6372.toNat]
def k0_mult833 (v6373 : BitVec 32) : BitVec 32 :=
  v6373

def k0_mult834 (i : grid0.Coords) : BitVec 32 :=
  let arg1 : BitVec 32 := BitVec.ofNat 32 (i 1).val
  let c2_i32_3960 : BitVec 32 := 2#32
  let v6367 : BitVec 32 := Scalar.muli arg1 c2_i32_3960
  let c1_i32_3961 : BitVec 32 := 1#32
  let v6368 : BitVec 32 := Scalar.addi v6367 c1_i32_3961
  let c256_i32_3962 : BitVec 32 := 256#32
  let v6369 : BitVec 32 := Scalar.muli v6368 c256_i32_3962
  let c159_i32_3963 : BitVec 32 := 159#32
  let v6370 : BitVec 32 := Scalar.addi v6369 c159_i32_3963
  let c8_i32_3967 : BitVec 32 := 8#32
  let v6375 : BitVec 32 := Scalar.muli v6370 c8_i32_3967
  v6375
def k0_off1683 (i : grid0.Coords) : Fin 1 → Nat :=
  let c1_i32_3964 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6371 : BitVec 32 := Scalar.subi c1_i32_3964 v9
  ![v6371.toNat]
def k0_off1684 (i : grid0.Coords) : Fin 3 → Nat :=
  let c1_i32_3964 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6371 : BitVec 32 := Scalar.subi c1_i32_3964 v9
  let arg1 : BitVec 32 := BitVec.ofNat 32 (i 1).val
  let c2_i32_3960 : BitVec 32 := 2#32
  let v6367 : BitVec 32 := Scalar.muli arg1 c2_i32_3960
  let c1_i32_3961 : BitVec 32 := 1#32
  let v6368 : BitVec 32 := Scalar.addi v6367 c1_i32_3961
  let c256_i32_3962 : BitVec 32 := 256#32
  let v6369 : BitVec 32 := Scalar.muli v6368 c256_i32_3962
  let c159_i32_3963 : BitVec 32 := 159#32
  let v6370 : BitVec 32 := Scalar.addi v6369 c159_i32_3963
  let c8_i32_3967 : BitVec 32 := 8#32
  let v6375 : BitVec 32 := Scalar.muli v6370 c8_i32_3967
  let v6376 : BitVec 32 := v6375
  let c0_i32_3968 : BitVec 32 := 0#32
  ![v6371.toNat, v6376.toNat, 0]
def k0_off1685 (v6373 : BitVec 32) : Fin 2 → Nat :=
  let v6374 : BitVec 32 := v6373
  let c0_i32_3969 : BitVec 32 := 0#32
  ![v6374.toNat, 0]

def k0_chk417 (i : grid0.Coords) (v6373 : BitVec 32) : Prop :=
  (∀ (k0_h2 : k0_cond2 i = 1#1), 8 ∣ (k0_mult833 v6373).toNat) ∧
  (∀ (k0_h2 : k0_cond2 i = 1#1), ∀ a, (k0_off1685 v6373) a + S8x128.size a ≤ S131072x128.size a)
theorem k0_mult833_dvd : ∀ (i : grid0.Coords) (v6373 : BitVec 32) (k0_hw417 : k0_chk417 i v6373), ∀ (k0_h2 : k0_cond2 i = 1#1), 8 ∣ (k0_mult833 v6373).toNat := fun i v6373 k0_hw417 k0_h2 => k0_hw417.1 k0_h2
theorem k0_off1685_inb : ∀ (i : grid0.Coords) (v6373 : BitVec 32) (k0_hw417 : k0_chk417 i v6373), ∀ (k0_h2 : k0_cond2 i = 1#1), ∀ a, (k0_off1685 v6373) a + S8x128.size a ≤ S131072x128.size a := fun i v6373 k0_hw417 k0_h2 => k0_hw417.2 k0_h2

def k0_off1686 (i : grid0.Coords) : Fin 3 → Nat :=
  let c0_3975 : Index := 0#32
  let c0_3976 : Index := 0#32
  let arg1 : BitVec 32 := BitVec.ofNat 32 (i 1).val
  let c2_i32_3970 : BitVec 32 := 2#32
  let v6382 : BitVec 32 := Scalar.muli arg1 c2_i32_3970
  let c1_i32_3971 : BitVec 32 := 1#32
  let v6383 : BitVec 32 := Scalar.addi v6382 c1_i32_3971
  let c256_i32_3972 : BitVec 32 := 256#32
  let v6384 : BitVec 32 := Scalar.muli v6383 c256_i32_3972
  let c160_i32_3973 : BitVec 32 := 160#32
  let v6385 : BitVec 32 := Scalar.addi v6384 c160_i32_3973
  let v6387 : Index := Scalar.indexCast v6385
  ![0, 0, v6387.toNat]
def k0_mult835 (v6388 : BitVec 32) : BitVec 32 :=
  v6388

def k0_mult836 (i : grid0.Coords) : BitVec 32 :=
  let arg1 : BitVec 32 := BitVec.ofNat 32 (i 1).val
  let c2_i32_3970 : BitVec 32 := 2#32
  let v6382 : BitVec 32 := Scalar.muli arg1 c2_i32_3970
  let c1_i32_3971 : BitVec 32 := 1#32
  let v6383 : BitVec 32 := Scalar.addi v6382 c1_i32_3971
  let c256_i32_3972 : BitVec 32 := 256#32
  let v6384 : BitVec 32 := Scalar.muli v6383 c256_i32_3972
  let c160_i32_3973 : BitVec 32 := 160#32
  let v6385 : BitVec 32 := Scalar.addi v6384 c160_i32_3973
  let c8_i32_3977 : BitVec 32 := 8#32
  let v6390 : BitVec 32 := Scalar.muli v6385 c8_i32_3977
  v6390
def k0_off1687 (i : grid0.Coords) : Fin 1 → Nat :=
  let c1_i32_3974 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6386 : BitVec 32 := Scalar.subi c1_i32_3974 v9
  ![v6386.toNat]
def k0_off1688 (i : grid0.Coords) : Fin 3 → Nat :=
  let c1_i32_3974 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6386 : BitVec 32 := Scalar.subi c1_i32_3974 v9
  let arg1 : BitVec 32 := BitVec.ofNat 32 (i 1).val
  let c2_i32_3970 : BitVec 32 := 2#32
  let v6382 : BitVec 32 := Scalar.muli arg1 c2_i32_3970
  let c1_i32_3971 : BitVec 32 := 1#32
  let v6383 : BitVec 32 := Scalar.addi v6382 c1_i32_3971
  let c256_i32_3972 : BitVec 32 := 256#32
  let v6384 : BitVec 32 := Scalar.muli v6383 c256_i32_3972
  let c160_i32_3973 : BitVec 32 := 160#32
  let v6385 : BitVec 32 := Scalar.addi v6384 c160_i32_3973
  let c8_i32_3977 : BitVec 32 := 8#32
  let v6390 : BitVec 32 := Scalar.muli v6385 c8_i32_3977
  let v6391 : BitVec 32 := v6390
  let c0_i32_3978 : BitVec 32 := 0#32
  ![v6386.toNat, v6391.toNat, 0]
def k0_off1689 (v6388 : BitVec 32) : Fin 2 → Nat :=
  let v6389 : BitVec 32 := v6388
  let c0_i32_3979 : BitVec 32 := 0#32
  ![v6389.toNat, 0]

def k0_chk418 (i : grid0.Coords) (v6388 : BitVec 32) : Prop :=
  (∀ (k0_h2 : k0_cond2 i = 1#1), 8 ∣ (k0_mult835 v6388).toNat) ∧
  (∀ (k0_h2 : k0_cond2 i = 1#1), ∀ a, (k0_off1689 v6388) a + S8x128.size a ≤ S131072x128.size a)
theorem k0_mult835_dvd : ∀ (i : grid0.Coords) (v6388 : BitVec 32) (k0_hw418 : k0_chk418 i v6388), ∀ (k0_h2 : k0_cond2 i = 1#1), 8 ∣ (k0_mult835 v6388).toNat := fun i v6388 k0_hw418 k0_h2 => k0_hw418.1 k0_h2
theorem k0_off1689_inb : ∀ (i : grid0.Coords) (v6388 : BitVec 32) (k0_hw418 : k0_chk418 i v6388), ∀ (k0_h2 : k0_cond2 i = 1#1), ∀ a, (k0_off1689 v6388) a + S8x128.size a ≤ S131072x128.size a := fun i v6388 k0_hw418 k0_h2 => k0_hw418.2 k0_h2

def k0_off1690 (i : grid0.Coords) : Fin 3 → Nat :=
  let c0_3985 : Index := 0#32
  let c0_3986 : Index := 0#32
  let arg1 : BitVec 32 := BitVec.ofNat 32 (i 1).val
  let c2_i32_3980 : BitVec 32 := 2#32
  let v6397 : BitVec 32 := Scalar.muli arg1 c2_i32_3980
  let c1_i32_3981 : BitVec 32 := 1#32
  let v6398 : BitVec 32 := Scalar.addi v6397 c1_i32_3981
  let c256_i32_3982 : BitVec 32 := 256#32
  let v6399 : BitVec 32 := Scalar.muli v6398 c256_i32_3982
  let c161_i32_3983 : BitVec 32 := 161#32
  let v6400 : BitVec 32 := Scalar.addi v6399 c161_i32_3983
  let v6402 : Index := Scalar.indexCast v6400
  ![0, 0, v6402.toNat]
def k0_mult837 (v6403 : BitVec 32) : BitVec 32 :=
  v6403

def k0_mult838 (i : grid0.Coords) : BitVec 32 :=
  let arg1 : BitVec 32 := BitVec.ofNat 32 (i 1).val
  let c2_i32_3980 : BitVec 32 := 2#32
  let v6397 : BitVec 32 := Scalar.muli arg1 c2_i32_3980
  let c1_i32_3981 : BitVec 32 := 1#32
  let v6398 : BitVec 32 := Scalar.addi v6397 c1_i32_3981
  let c256_i32_3982 : BitVec 32 := 256#32
  let v6399 : BitVec 32 := Scalar.muli v6398 c256_i32_3982
  let c161_i32_3983 : BitVec 32 := 161#32
  let v6400 : BitVec 32 := Scalar.addi v6399 c161_i32_3983
  let c8_i32_3987 : BitVec 32 := 8#32
  let v6405 : BitVec 32 := Scalar.muli v6400 c8_i32_3987
  v6405
def k0_off1691 (i : grid0.Coords) : Fin 1 → Nat :=
  let c1_i32_3984 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6401 : BitVec 32 := Scalar.subi c1_i32_3984 v9
  ![v6401.toNat]
def k0_off1692 (i : grid0.Coords) : Fin 3 → Nat :=
  let c1_i32_3984 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6401 : BitVec 32 := Scalar.subi c1_i32_3984 v9
  let arg1 : BitVec 32 := BitVec.ofNat 32 (i 1).val
  let c2_i32_3980 : BitVec 32 := 2#32
  let v6397 : BitVec 32 := Scalar.muli arg1 c2_i32_3980
  let c1_i32_3981 : BitVec 32 := 1#32
  let v6398 : BitVec 32 := Scalar.addi v6397 c1_i32_3981
  let c256_i32_3982 : BitVec 32 := 256#32
  let v6399 : BitVec 32 := Scalar.muli v6398 c256_i32_3982
  let c161_i32_3983 : BitVec 32 := 161#32
  let v6400 : BitVec 32 := Scalar.addi v6399 c161_i32_3983
  let c8_i32_3987 : BitVec 32 := 8#32
  let v6405 : BitVec 32 := Scalar.muli v6400 c8_i32_3987
  let v6406 : BitVec 32 := v6405
  let c0_i32_3988 : BitVec 32 := 0#32
  ![v6401.toNat, v6406.toNat, 0]
def k0_off1693 (v6403 : BitVec 32) : Fin 2 → Nat :=
  let v6404 : BitVec 32 := v6403
  let c0_i32_3989 : BitVec 32 := 0#32
  ![v6404.toNat, 0]

def k0_chk419 (i : grid0.Coords) (v6403 : BitVec 32) : Prop :=
  (∀ (k0_h2 : k0_cond2 i = 1#1), 8 ∣ (k0_mult837 v6403).toNat) ∧
  (∀ (k0_h2 : k0_cond2 i = 1#1), ∀ a, (k0_off1693 v6403) a + S8x128.size a ≤ S131072x128.size a)
theorem k0_mult837_dvd : ∀ (i : grid0.Coords) (v6403 : BitVec 32) (k0_hw419 : k0_chk419 i v6403), ∀ (k0_h2 : k0_cond2 i = 1#1), 8 ∣ (k0_mult837 v6403).toNat := fun i v6403 k0_hw419 k0_h2 => k0_hw419.1 k0_h2
theorem k0_off1693_inb : ∀ (i : grid0.Coords) (v6403 : BitVec 32) (k0_hw419 : k0_chk419 i v6403), ∀ (k0_h2 : k0_cond2 i = 1#1), ∀ a, (k0_off1693 v6403) a + S8x128.size a ≤ S131072x128.size a := fun i v6403 k0_hw419 k0_h2 => k0_hw419.2 k0_h2

def k0_off1694 (i : grid0.Coords) : Fin 3 → Nat :=
  let c0_3995 : Index := 0#32
  let c0_3996 : Index := 0#32
  let arg1 : BitVec 32 := BitVec.ofNat 32 (i 1).val
  let c2_i32_3990 : BitVec 32 := 2#32
  let v6412 : BitVec 32 := Scalar.muli arg1 c2_i32_3990
  let c1_i32_3991 : BitVec 32 := 1#32
  let v6413 : BitVec 32 := Scalar.addi v6412 c1_i32_3991
  let c256_i32_3992 : BitVec 32 := 256#32
  let v6414 : BitVec 32 := Scalar.muli v6413 c256_i32_3992
  let c162_i32_3993 : BitVec 32 := 162#32
  let v6415 : BitVec 32 := Scalar.addi v6414 c162_i32_3993
  let v6417 : Index := Scalar.indexCast v6415
  ![0, 0, v6417.toNat]
def k0_mult839 (v6418 : BitVec 32) : BitVec 32 :=
  v6418

def k0_mult840 (i : grid0.Coords) : BitVec 32 :=
  let arg1 : BitVec 32 := BitVec.ofNat 32 (i 1).val
  let c2_i32_3990 : BitVec 32 := 2#32
  let v6412 : BitVec 32 := Scalar.muli arg1 c2_i32_3990
  let c1_i32_3991 : BitVec 32 := 1#32
  let v6413 : BitVec 32 := Scalar.addi v6412 c1_i32_3991
  let c256_i32_3992 : BitVec 32 := 256#32
  let v6414 : BitVec 32 := Scalar.muli v6413 c256_i32_3992
  let c162_i32_3993 : BitVec 32 := 162#32
  let v6415 : BitVec 32 := Scalar.addi v6414 c162_i32_3993
  let c8_i32_3997 : BitVec 32 := 8#32
  let v6420 : BitVec 32 := Scalar.muli v6415 c8_i32_3997
  v6420
def k0_off1695 (i : grid0.Coords) : Fin 1 → Nat :=
  let c1_i32_3994 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6416 : BitVec 32 := Scalar.subi c1_i32_3994 v9
  ![v6416.toNat]
def k0_off1696 (i : grid0.Coords) : Fin 3 → Nat :=
  let c1_i32_3994 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6416 : BitVec 32 := Scalar.subi c1_i32_3994 v9
  let arg1 : BitVec 32 := BitVec.ofNat 32 (i 1).val
  let c2_i32_3990 : BitVec 32 := 2#32
  let v6412 : BitVec 32 := Scalar.muli arg1 c2_i32_3990
  let c1_i32_3991 : BitVec 32 := 1#32
  let v6413 : BitVec 32 := Scalar.addi v6412 c1_i32_3991
  let c256_i32_3992 : BitVec 32 := 256#32
  let v6414 : BitVec 32 := Scalar.muli v6413 c256_i32_3992
  let c162_i32_3993 : BitVec 32 := 162#32
  let v6415 : BitVec 32 := Scalar.addi v6414 c162_i32_3993
  let c8_i32_3997 : BitVec 32 := 8#32
  let v6420 : BitVec 32 := Scalar.muli v6415 c8_i32_3997
  let v6421 : BitVec 32 := v6420
  let c0_i32_3998 : BitVec 32 := 0#32
  ![v6416.toNat, v6421.toNat, 0]
def k0_off1697 (v6418 : BitVec 32) : Fin 2 → Nat :=
  let v6419 : BitVec 32 := v6418
  let c0_i32_3999 : BitVec 32 := 0#32
  ![v6419.toNat, 0]

def k0_chk420 (i : grid0.Coords) (v6418 : BitVec 32) : Prop :=
  (∀ (k0_h2 : k0_cond2 i = 1#1), 8 ∣ (k0_mult839 v6418).toNat) ∧
  (∀ (k0_h2 : k0_cond2 i = 1#1), ∀ a, (k0_off1697 v6418) a + S8x128.size a ≤ S131072x128.size a)
theorem k0_mult839_dvd : ∀ (i : grid0.Coords) (v6418 : BitVec 32) (k0_hw420 : k0_chk420 i v6418), ∀ (k0_h2 : k0_cond2 i = 1#1), 8 ∣ (k0_mult839 v6418).toNat := fun i v6418 k0_hw420 k0_h2 => k0_hw420.1 k0_h2
theorem k0_off1697_inb : ∀ (i : grid0.Coords) (v6418 : BitVec 32) (k0_hw420 : k0_chk420 i v6418), ∀ (k0_h2 : k0_cond2 i = 1#1), ∀ a, (k0_off1697 v6418) a + S8x128.size a ≤ S131072x128.size a := fun i v6418 k0_hw420 k0_h2 => k0_hw420.2 k0_h2

def k0_off1698 (i : grid0.Coords) : Fin 3 → Nat :=
  let c0_4005 : Index := 0#32
  let c0_4006 : Index := 0#32
  let arg1 : BitVec 32 := BitVec.ofNat 32 (i 1).val
  let c2_i32_4000 : BitVec 32 := 2#32
  let v6427 : BitVec 32 := Scalar.muli arg1 c2_i32_4000
  let c1_i32_4001 : BitVec 32 := 1#32
  let v6428 : BitVec 32 := Scalar.addi v6427 c1_i32_4001
  let c256_i32_4002 : BitVec 32 := 256#32
  let v6429 : BitVec 32 := Scalar.muli v6428 c256_i32_4002
  let c163_i32_4003 : BitVec 32 := 163#32
  let v6430 : BitVec 32 := Scalar.addi v6429 c163_i32_4003
  let v6432 : Index := Scalar.indexCast v6430
  ![0, 0, v6432.toNat]
def k0_mult841 (v6433 : BitVec 32) : BitVec 32 :=
  v6433

def k0_mult842 (i : grid0.Coords) : BitVec 32 :=
  let arg1 : BitVec 32 := BitVec.ofNat 32 (i 1).val
  let c2_i32_4000 : BitVec 32 := 2#32
  let v6427 : BitVec 32 := Scalar.muli arg1 c2_i32_4000
  let c1_i32_4001 : BitVec 32 := 1#32
  let v6428 : BitVec 32 := Scalar.addi v6427 c1_i32_4001
  let c256_i32_4002 : BitVec 32 := 256#32
  let v6429 : BitVec 32 := Scalar.muli v6428 c256_i32_4002
  let c163_i32_4003 : BitVec 32 := 163#32
  let v6430 : BitVec 32 := Scalar.addi v6429 c163_i32_4003
  let c8_i32_4007 : BitVec 32 := 8#32
  let v6435 : BitVec 32 := Scalar.muli v6430 c8_i32_4007
  v6435
def k0_off1699 (i : grid0.Coords) : Fin 1 → Nat :=
  let c1_i32_4004 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6431 : BitVec 32 := Scalar.subi c1_i32_4004 v9
  ![v6431.toNat]
def k0_off1700 (i : grid0.Coords) : Fin 3 → Nat :=
  let c1_i32_4004 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6431 : BitVec 32 := Scalar.subi c1_i32_4004 v9
  let arg1 : BitVec 32 := BitVec.ofNat 32 (i 1).val
  let c2_i32_4000 : BitVec 32 := 2#32
  let v6427 : BitVec 32 := Scalar.muli arg1 c2_i32_4000
  let c1_i32_4001 : BitVec 32 := 1#32
  let v6428 : BitVec 32 := Scalar.addi v6427 c1_i32_4001
  let c256_i32_4002 : BitVec 32 := 256#32
  let v6429 : BitVec 32 := Scalar.muli v6428 c256_i32_4002
  let c163_i32_4003 : BitVec 32 := 163#32
  let v6430 : BitVec 32 := Scalar.addi v6429 c163_i32_4003
  let c8_i32_4007 : BitVec 32 := 8#32
  let v6435 : BitVec 32 := Scalar.muli v6430 c8_i32_4007
  let v6436 : BitVec 32 := v6435
  let c0_i32_4008 : BitVec 32 := 0#32
  ![v6431.toNat, v6436.toNat, 0]
def k0_off1701 (v6433 : BitVec 32) : Fin 2 → Nat :=
  let v6434 : BitVec 32 := v6433
  let c0_i32_4009 : BitVec 32 := 0#32
  ![v6434.toNat, 0]

def k0_chk421 (i : grid0.Coords) (v6433 : BitVec 32) : Prop :=
  (∀ (k0_h2 : k0_cond2 i = 1#1), 8 ∣ (k0_mult841 v6433).toNat) ∧
  (∀ (k0_h2 : k0_cond2 i = 1#1), ∀ a, (k0_off1701 v6433) a + S8x128.size a ≤ S131072x128.size a)
theorem k0_mult841_dvd : ∀ (i : grid0.Coords) (v6433 : BitVec 32) (k0_hw421 : k0_chk421 i v6433), ∀ (k0_h2 : k0_cond2 i = 1#1), 8 ∣ (k0_mult841 v6433).toNat := fun i v6433 k0_hw421 k0_h2 => k0_hw421.1 k0_h2
theorem k0_off1701_inb : ∀ (i : grid0.Coords) (v6433 : BitVec 32) (k0_hw421 : k0_chk421 i v6433), ∀ (k0_h2 : k0_cond2 i = 1#1), ∀ a, (k0_off1701 v6433) a + S8x128.size a ≤ S131072x128.size a := fun i v6433 k0_hw421 k0_h2 => k0_hw421.2 k0_h2

def k0_off1702 (i : grid0.Coords) : Fin 3 → Nat :=
  let c0_4015 : Index := 0#32
  let c0_4016 : Index := 0#32
  let arg1 : BitVec 32 := BitVec.ofNat 32 (i 1).val
  let c2_i32_4010 : BitVec 32 := 2#32
  let v6442 : BitVec 32 := Scalar.muli arg1 c2_i32_4010
  let c1_i32_4011 : BitVec 32 := 1#32
  let v6443 : BitVec 32 := Scalar.addi v6442 c1_i32_4011
  let c256_i32_4012 : BitVec 32 := 256#32
  let v6444 : BitVec 32 := Scalar.muli v6443 c256_i32_4012
  let c164_i32_4013 : BitVec 32 := 164#32
  let v6445 : BitVec 32 := Scalar.addi v6444 c164_i32_4013
  let v6447 : Index := Scalar.indexCast v6445
  ![0, 0, v6447.toNat]
def k0_mult843 (v6448 : BitVec 32) : BitVec 32 :=
  v6448

def k0_mult844 (i : grid0.Coords) : BitVec 32 :=
  let arg1 : BitVec 32 := BitVec.ofNat 32 (i 1).val
  let c2_i32_4010 : BitVec 32 := 2#32
  let v6442 : BitVec 32 := Scalar.muli arg1 c2_i32_4010
  let c1_i32_4011 : BitVec 32 := 1#32
  let v6443 : BitVec 32 := Scalar.addi v6442 c1_i32_4011
  let c256_i32_4012 : BitVec 32 := 256#32
  let v6444 : BitVec 32 := Scalar.muli v6443 c256_i32_4012
  let c164_i32_4013 : BitVec 32 := 164#32
  let v6445 : BitVec 32 := Scalar.addi v6444 c164_i32_4013
  let c8_i32_4017 : BitVec 32 := 8#32
  let v6450 : BitVec 32 := Scalar.muli v6445 c8_i32_4017
  v6450
def k0_off1703 (i : grid0.Coords) : Fin 1 → Nat :=
  let c1_i32_4014 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6446 : BitVec 32 := Scalar.subi c1_i32_4014 v9
  ![v6446.toNat]
def k0_off1704 (i : grid0.Coords) : Fin 3 → Nat :=
  let c1_i32_4014 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6446 : BitVec 32 := Scalar.subi c1_i32_4014 v9
  let arg1 : BitVec 32 := BitVec.ofNat 32 (i 1).val
  let c2_i32_4010 : BitVec 32 := 2#32
  let v6442 : BitVec 32 := Scalar.muli arg1 c2_i32_4010
  let c1_i32_4011 : BitVec 32 := 1#32
  let v6443 : BitVec 32 := Scalar.addi v6442 c1_i32_4011
  let c256_i32_4012 : BitVec 32 := 256#32
  let v6444 : BitVec 32 := Scalar.muli v6443 c256_i32_4012
  let c164_i32_4013 : BitVec 32 := 164#32
  let v6445 : BitVec 32 := Scalar.addi v6444 c164_i32_4013
  let c8_i32_4017 : BitVec 32 := 8#32
  let v6450 : BitVec 32 := Scalar.muli v6445 c8_i32_4017
  let v6451 : BitVec 32 := v6450
  let c0_i32_4018 : BitVec 32 := 0#32
  ![v6446.toNat, v6451.toNat, 0]
def k0_off1705 (v6448 : BitVec 32) : Fin 2 → Nat :=
  let v6449 : BitVec 32 := v6448
  let c0_i32_4019 : BitVec 32 := 0#32
  ![v6449.toNat, 0]

def k0_chk422 (i : grid0.Coords) (v6448 : BitVec 32) : Prop :=
  (∀ (k0_h2 : k0_cond2 i = 1#1), 8 ∣ (k0_mult843 v6448).toNat) ∧
  (∀ (k0_h2 : k0_cond2 i = 1#1), ∀ a, (k0_off1705 v6448) a + S8x128.size a ≤ S131072x128.size a)
theorem k0_mult843_dvd : ∀ (i : grid0.Coords) (v6448 : BitVec 32) (k0_hw422 : k0_chk422 i v6448), ∀ (k0_h2 : k0_cond2 i = 1#1), 8 ∣ (k0_mult843 v6448).toNat := fun i v6448 k0_hw422 k0_h2 => k0_hw422.1 k0_h2
theorem k0_off1705_inb : ∀ (i : grid0.Coords) (v6448 : BitVec 32) (k0_hw422 : k0_chk422 i v6448), ∀ (k0_h2 : k0_cond2 i = 1#1), ∀ a, (k0_off1705 v6448) a + S8x128.size a ≤ S131072x128.size a := fun i v6448 k0_hw422 k0_h2 => k0_hw422.2 k0_h2

def k0_off1706 (i : grid0.Coords) : Fin 3 → Nat :=
  let c0_4025 : Index := 0#32
  let c0_4026 : Index := 0#32
  let arg1 : BitVec 32 := BitVec.ofNat 32 (i 1).val
  let c2_i32_4020 : BitVec 32 := 2#32
  let v6457 : BitVec 32 := Scalar.muli arg1 c2_i32_4020
  let c1_i32_4021 : BitVec 32 := 1#32
  let v6458 : BitVec 32 := Scalar.addi v6457 c1_i32_4021
  let c256_i32_4022 : BitVec 32 := 256#32
  let v6459 : BitVec 32 := Scalar.muli v6458 c256_i32_4022
  let c165_i32_4023 : BitVec 32 := 165#32
  let v6460 : BitVec 32 := Scalar.addi v6459 c165_i32_4023
  let v6462 : Index := Scalar.indexCast v6460
  ![0, 0, v6462.toNat]
def k0_mult845 (v6463 : BitVec 32) : BitVec 32 :=
  v6463

def k0_mult846 (i : grid0.Coords) : BitVec 32 :=
  let arg1 : BitVec 32 := BitVec.ofNat 32 (i 1).val
  let c2_i32_4020 : BitVec 32 := 2#32
  let v6457 : BitVec 32 := Scalar.muli arg1 c2_i32_4020
  let c1_i32_4021 : BitVec 32 := 1#32
  let v6458 : BitVec 32 := Scalar.addi v6457 c1_i32_4021
  let c256_i32_4022 : BitVec 32 := 256#32
  let v6459 : BitVec 32 := Scalar.muli v6458 c256_i32_4022
  let c165_i32_4023 : BitVec 32 := 165#32
  let v6460 : BitVec 32 := Scalar.addi v6459 c165_i32_4023
  let c8_i32_4027 : BitVec 32 := 8#32
  let v6465 : BitVec 32 := Scalar.muli v6460 c8_i32_4027
  v6465
def k0_off1707 (i : grid0.Coords) : Fin 1 → Nat :=
  let c1_i32_4024 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6461 : BitVec 32 := Scalar.subi c1_i32_4024 v9
  ![v6461.toNat]
def k0_off1708 (i : grid0.Coords) : Fin 3 → Nat :=
  let c1_i32_4024 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6461 : BitVec 32 := Scalar.subi c1_i32_4024 v9
  let arg1 : BitVec 32 := BitVec.ofNat 32 (i 1).val
  let c2_i32_4020 : BitVec 32 := 2#32
  let v6457 : BitVec 32 := Scalar.muli arg1 c2_i32_4020
  let c1_i32_4021 : BitVec 32 := 1#32
  let v6458 : BitVec 32 := Scalar.addi v6457 c1_i32_4021
  let c256_i32_4022 : BitVec 32 := 256#32
  let v6459 : BitVec 32 := Scalar.muli v6458 c256_i32_4022
  let c165_i32_4023 : BitVec 32 := 165#32
  let v6460 : BitVec 32 := Scalar.addi v6459 c165_i32_4023
  let c8_i32_4027 : BitVec 32 := 8#32
  let v6465 : BitVec 32 := Scalar.muli v6460 c8_i32_4027
  let v6466 : BitVec 32 := v6465
  let c0_i32_4028 : BitVec 32 := 0#32
  ![v6461.toNat, v6466.toNat, 0]
def k0_off1709 (v6463 : BitVec 32) : Fin 2 → Nat :=
  let v6464 : BitVec 32 := v6463
  let c0_i32_4029 : BitVec 32 := 0#32
  ![v6464.toNat, 0]

def k0_chk423 (i : grid0.Coords) (v6463 : BitVec 32) : Prop :=
  (∀ (k0_h2 : k0_cond2 i = 1#1), 8 ∣ (k0_mult845 v6463).toNat) ∧
  (∀ (k0_h2 : k0_cond2 i = 1#1), ∀ a, (k0_off1709 v6463) a + S8x128.size a ≤ S131072x128.size a)
theorem k0_mult845_dvd : ∀ (i : grid0.Coords) (v6463 : BitVec 32) (k0_hw423 : k0_chk423 i v6463), ∀ (k0_h2 : k0_cond2 i = 1#1), 8 ∣ (k0_mult845 v6463).toNat := fun i v6463 k0_hw423 k0_h2 => k0_hw423.1 k0_h2
theorem k0_off1709_inb : ∀ (i : grid0.Coords) (v6463 : BitVec 32) (k0_hw423 : k0_chk423 i v6463), ∀ (k0_h2 : k0_cond2 i = 1#1), ∀ a, (k0_off1709 v6463) a + S8x128.size a ≤ S131072x128.size a := fun i v6463 k0_hw423 k0_h2 => k0_hw423.2 k0_h2

def k0_off1710 (i : grid0.Coords) : Fin 3 → Nat :=
  let c0_4035 : Index := 0#32
  let c0_4036 : Index := 0#32
  let arg1 : BitVec 32 := BitVec.ofNat 32 (i 1).val
  let c2_i32_4030 : BitVec 32 := 2#32
  let v6472 : BitVec 32 := Scalar.muli arg1 c2_i32_4030
  let c1_i32_4031 : BitVec 32 := 1#32
  let v6473 : BitVec 32 := Scalar.addi v6472 c1_i32_4031
  let c256_i32_4032 : BitVec 32 := 256#32
  let v6474 : BitVec 32 := Scalar.muli v6473 c256_i32_4032
  let c166_i32_4033 : BitVec 32 := 166#32
  let v6475 : BitVec 32 := Scalar.addi v6474 c166_i32_4033
  let v6477 : Index := Scalar.indexCast v6475
  ![0, 0, v6477.toNat]
def k0_mult847 (v6478 : BitVec 32) : BitVec 32 :=
  v6478

def k0_mult848 (i : grid0.Coords) : BitVec 32 :=
  let arg1 : BitVec 32 := BitVec.ofNat 32 (i 1).val
  let c2_i32_4030 : BitVec 32 := 2#32
  let v6472 : BitVec 32 := Scalar.muli arg1 c2_i32_4030
  let c1_i32_4031 : BitVec 32 := 1#32
  let v6473 : BitVec 32 := Scalar.addi v6472 c1_i32_4031
  let c256_i32_4032 : BitVec 32 := 256#32
  let v6474 : BitVec 32 := Scalar.muli v6473 c256_i32_4032
  let c166_i32_4033 : BitVec 32 := 166#32
  let v6475 : BitVec 32 := Scalar.addi v6474 c166_i32_4033
  let c8_i32_4037 : BitVec 32 := 8#32
  let v6480 : BitVec 32 := Scalar.muli v6475 c8_i32_4037
  v6480
def k0_off1711 (i : grid0.Coords) : Fin 1 → Nat :=
  let c1_i32_4034 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6476 : BitVec 32 := Scalar.subi c1_i32_4034 v9
  ![v6476.toNat]
def k0_off1712 (i : grid0.Coords) : Fin 3 → Nat :=
  let c1_i32_4034 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6476 : BitVec 32 := Scalar.subi c1_i32_4034 v9
  let arg1 : BitVec 32 := BitVec.ofNat 32 (i 1).val
  let c2_i32_4030 : BitVec 32 := 2#32
  let v6472 : BitVec 32 := Scalar.muli arg1 c2_i32_4030
  let c1_i32_4031 : BitVec 32 := 1#32
  let v6473 : BitVec 32 := Scalar.addi v6472 c1_i32_4031
  let c256_i32_4032 : BitVec 32 := 256#32
  let v6474 : BitVec 32 := Scalar.muli v6473 c256_i32_4032
  let c166_i32_4033 : BitVec 32 := 166#32
  let v6475 : BitVec 32 := Scalar.addi v6474 c166_i32_4033
  let c8_i32_4037 : BitVec 32 := 8#32
  let v6480 : BitVec 32 := Scalar.muli v6475 c8_i32_4037
  let v6481 : BitVec 32 := v6480
  let c0_i32_4038 : BitVec 32 := 0#32
  ![v6476.toNat, v6481.toNat, 0]
def k0_off1713 (v6478 : BitVec 32) : Fin 2 → Nat :=
  let v6479 : BitVec 32 := v6478
  let c0_i32_4039 : BitVec 32 := 0#32
  ![v6479.toNat, 0]

def k0_chk424 (i : grid0.Coords) (v6478 : BitVec 32) : Prop :=
  (∀ (k0_h2 : k0_cond2 i = 1#1), 8 ∣ (k0_mult847 v6478).toNat) ∧
  (∀ (k0_h2 : k0_cond2 i = 1#1), ∀ a, (k0_off1713 v6478) a + S8x128.size a ≤ S131072x128.size a)
theorem k0_mult847_dvd : ∀ (i : grid0.Coords) (v6478 : BitVec 32) (k0_hw424 : k0_chk424 i v6478), ∀ (k0_h2 : k0_cond2 i = 1#1), 8 ∣ (k0_mult847 v6478).toNat := fun i v6478 k0_hw424 k0_h2 => k0_hw424.1 k0_h2
theorem k0_off1713_inb : ∀ (i : grid0.Coords) (v6478 : BitVec 32) (k0_hw424 : k0_chk424 i v6478), ∀ (k0_h2 : k0_cond2 i = 1#1), ∀ a, (k0_off1713 v6478) a + S8x128.size a ≤ S131072x128.size a := fun i v6478 k0_hw424 k0_h2 => k0_hw424.2 k0_h2

def k0_off1714 (i : grid0.Coords) : Fin 3 → Nat :=
  let c0_4045 : Index := 0#32
  let c0_4046 : Index := 0#32
  let arg1 : BitVec 32 := BitVec.ofNat 32 (i 1).val
  let c2_i32_4040 : BitVec 32 := 2#32
  let v6487 : BitVec 32 := Scalar.muli arg1 c2_i32_4040
  let c1_i32_4041 : BitVec 32 := 1#32
  let v6488 : BitVec 32 := Scalar.addi v6487 c1_i32_4041
  let c256_i32_4042 : BitVec 32 := 256#32
  let v6489 : BitVec 32 := Scalar.muli v6488 c256_i32_4042
  let c167_i32_4043 : BitVec 32 := 167#32
  let v6490 : BitVec 32 := Scalar.addi v6489 c167_i32_4043
  let v6492 : Index := Scalar.indexCast v6490
  ![0, 0, v6492.toNat]
def k0_mult849 (v6493 : BitVec 32) : BitVec 32 :=
  v6493

def k0_mult850 (i : grid0.Coords) : BitVec 32 :=
  let arg1 : BitVec 32 := BitVec.ofNat 32 (i 1).val
  let c2_i32_4040 : BitVec 32 := 2#32
  let v6487 : BitVec 32 := Scalar.muli arg1 c2_i32_4040
  let c1_i32_4041 : BitVec 32 := 1#32
  let v6488 : BitVec 32 := Scalar.addi v6487 c1_i32_4041
  let c256_i32_4042 : BitVec 32 := 256#32
  let v6489 : BitVec 32 := Scalar.muli v6488 c256_i32_4042
  let c167_i32_4043 : BitVec 32 := 167#32
  let v6490 : BitVec 32 := Scalar.addi v6489 c167_i32_4043
  let c8_i32_4047 : BitVec 32 := 8#32
  let v6495 : BitVec 32 := Scalar.muli v6490 c8_i32_4047
  v6495
def k0_off1715 (i : grid0.Coords) : Fin 1 → Nat :=
  let c1_i32_4044 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6491 : BitVec 32 := Scalar.subi c1_i32_4044 v9
  ![v6491.toNat]
def k0_off1716 (i : grid0.Coords) : Fin 3 → Nat :=
  let c1_i32_4044 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6491 : BitVec 32 := Scalar.subi c1_i32_4044 v9
  let arg1 : BitVec 32 := BitVec.ofNat 32 (i 1).val
  let c2_i32_4040 : BitVec 32 := 2#32
  let v6487 : BitVec 32 := Scalar.muli arg1 c2_i32_4040
  let c1_i32_4041 : BitVec 32 := 1#32
  let v6488 : BitVec 32 := Scalar.addi v6487 c1_i32_4041
  let c256_i32_4042 : BitVec 32 := 256#32
  let v6489 : BitVec 32 := Scalar.muli v6488 c256_i32_4042
  let c167_i32_4043 : BitVec 32 := 167#32
  let v6490 : BitVec 32 := Scalar.addi v6489 c167_i32_4043
  let c8_i32_4047 : BitVec 32 := 8#32
  let v6495 : BitVec 32 := Scalar.muli v6490 c8_i32_4047
  let v6496 : BitVec 32 := v6495
  let c0_i32_4048 : BitVec 32 := 0#32
  ![v6491.toNat, v6496.toNat, 0]
def k0_off1717 (v6493 : BitVec 32) : Fin 2 → Nat :=
  let v6494 : BitVec 32 := v6493
  let c0_i32_4049 : BitVec 32 := 0#32
  ![v6494.toNat, 0]

def k0_chk425 (i : grid0.Coords) (v6493 : BitVec 32) : Prop :=
  (∀ (k0_h2 : k0_cond2 i = 1#1), 8 ∣ (k0_mult849 v6493).toNat) ∧
  (∀ (k0_h2 : k0_cond2 i = 1#1), ∀ a, (k0_off1717 v6493) a + S8x128.size a ≤ S131072x128.size a)
theorem k0_mult849_dvd : ∀ (i : grid0.Coords) (v6493 : BitVec 32) (k0_hw425 : k0_chk425 i v6493), ∀ (k0_h2 : k0_cond2 i = 1#1), 8 ∣ (k0_mult849 v6493).toNat := fun i v6493 k0_hw425 k0_h2 => k0_hw425.1 k0_h2
theorem k0_off1717_inb : ∀ (i : grid0.Coords) (v6493 : BitVec 32) (k0_hw425 : k0_chk425 i v6493), ∀ (k0_h2 : k0_cond2 i = 1#1), ∀ a, (k0_off1717 v6493) a + S8x128.size a ≤ S131072x128.size a := fun i v6493 k0_hw425 k0_h2 => k0_hw425.2 k0_h2

def k0_off1718 (i : grid0.Coords) : Fin 3 → Nat :=
  let c0_4055 : Index := 0#32
  let c0_4056 : Index := 0#32
  let arg1 : BitVec 32 := BitVec.ofNat 32 (i 1).val
  let c2_i32_4050 : BitVec 32 := 2#32
  let v6502 : BitVec 32 := Scalar.muli arg1 c2_i32_4050
  let c1_i32_4051 : BitVec 32 := 1#32
  let v6503 : BitVec 32 := Scalar.addi v6502 c1_i32_4051
  let c256_i32_4052 : BitVec 32 := 256#32
  let v6504 : BitVec 32 := Scalar.muli v6503 c256_i32_4052
  let c168_i32_4053 : BitVec 32 := 168#32
  let v6505 : BitVec 32 := Scalar.addi v6504 c168_i32_4053
  let v6507 : Index := Scalar.indexCast v6505
  ![0, 0, v6507.toNat]
def k0_mult851 (v6508 : BitVec 32) : BitVec 32 :=
  v6508

def k0_mult852 (i : grid0.Coords) : BitVec 32 :=
  let arg1 : BitVec 32 := BitVec.ofNat 32 (i 1).val
  let c2_i32_4050 : BitVec 32 := 2#32
  let v6502 : BitVec 32 := Scalar.muli arg1 c2_i32_4050
  let c1_i32_4051 : BitVec 32 := 1#32
  let v6503 : BitVec 32 := Scalar.addi v6502 c1_i32_4051
  let c256_i32_4052 : BitVec 32 := 256#32
  let v6504 : BitVec 32 := Scalar.muli v6503 c256_i32_4052
  let c168_i32_4053 : BitVec 32 := 168#32
  let v6505 : BitVec 32 := Scalar.addi v6504 c168_i32_4053
  let c8_i32_4057 : BitVec 32 := 8#32
  let v6510 : BitVec 32 := Scalar.muli v6505 c8_i32_4057
  v6510
def k0_off1719 (i : grid0.Coords) : Fin 1 → Nat :=
  let c1_i32_4054 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6506 : BitVec 32 := Scalar.subi c1_i32_4054 v9
  ![v6506.toNat]
def k0_off1720 (i : grid0.Coords) : Fin 3 → Nat :=
  let c1_i32_4054 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6506 : BitVec 32 := Scalar.subi c1_i32_4054 v9
  let arg1 : BitVec 32 := BitVec.ofNat 32 (i 1).val
  let c2_i32_4050 : BitVec 32 := 2#32
  let v6502 : BitVec 32 := Scalar.muli arg1 c2_i32_4050
  let c1_i32_4051 : BitVec 32 := 1#32
  let v6503 : BitVec 32 := Scalar.addi v6502 c1_i32_4051
  let c256_i32_4052 : BitVec 32 := 256#32
  let v6504 : BitVec 32 := Scalar.muli v6503 c256_i32_4052
  let c168_i32_4053 : BitVec 32 := 168#32
  let v6505 : BitVec 32 := Scalar.addi v6504 c168_i32_4053
  let c8_i32_4057 : BitVec 32 := 8#32
  let v6510 : BitVec 32 := Scalar.muli v6505 c8_i32_4057
  let v6511 : BitVec 32 := v6510
  let c0_i32_4058 : BitVec 32 := 0#32
  ![v6506.toNat, v6511.toNat, 0]
def k0_off1721 (v6508 : BitVec 32) : Fin 2 → Nat :=
  let v6509 : BitVec 32 := v6508
  let c0_i32_4059 : BitVec 32 := 0#32
  ![v6509.toNat, 0]

def k0_chk426 (i : grid0.Coords) (v6508 : BitVec 32) : Prop :=
  (∀ (k0_h2 : k0_cond2 i = 1#1), 8 ∣ (k0_mult851 v6508).toNat) ∧
  (∀ (k0_h2 : k0_cond2 i = 1#1), ∀ a, (k0_off1721 v6508) a + S8x128.size a ≤ S131072x128.size a)
theorem k0_mult851_dvd : ∀ (i : grid0.Coords) (v6508 : BitVec 32) (k0_hw426 : k0_chk426 i v6508), ∀ (k0_h2 : k0_cond2 i = 1#1), 8 ∣ (k0_mult851 v6508).toNat := fun i v6508 k0_hw426 k0_h2 => k0_hw426.1 k0_h2
theorem k0_off1721_inb : ∀ (i : grid0.Coords) (v6508 : BitVec 32) (k0_hw426 : k0_chk426 i v6508), ∀ (k0_h2 : k0_cond2 i = 1#1), ∀ a, (k0_off1721 v6508) a + S8x128.size a ≤ S131072x128.size a := fun i v6508 k0_hw426 k0_h2 => k0_hw426.2 k0_h2

def k0_off1722 (i : grid0.Coords) : Fin 3 → Nat :=
  let c0_4065 : Index := 0#32
  let c0_4066 : Index := 0#32
  let arg1 : BitVec 32 := BitVec.ofNat 32 (i 1).val
  let c2_i32_4060 : BitVec 32 := 2#32
  let v6517 : BitVec 32 := Scalar.muli arg1 c2_i32_4060
  let c1_i32_4061 : BitVec 32 := 1#32
  let v6518 : BitVec 32 := Scalar.addi v6517 c1_i32_4061
  let c256_i32_4062 : BitVec 32 := 256#32
  let v6519 : BitVec 32 := Scalar.muli v6518 c256_i32_4062
  let c169_i32_4063 : BitVec 32 := 169#32
  let v6520 : BitVec 32 := Scalar.addi v6519 c169_i32_4063
  let v6522 : Index := Scalar.indexCast v6520
  ![0, 0, v6522.toNat]
def k0_mult853 (v6523 : BitVec 32) : BitVec 32 :=
  v6523

def k0_mult854 (i : grid0.Coords) : BitVec 32 :=
  let arg1 : BitVec 32 := BitVec.ofNat 32 (i 1).val
  let c2_i32_4060 : BitVec 32 := 2#32
  let v6517 : BitVec 32 := Scalar.muli arg1 c2_i32_4060
  let c1_i32_4061 : BitVec 32 := 1#32
  let v6518 : BitVec 32 := Scalar.addi v6517 c1_i32_4061
  let c256_i32_4062 : BitVec 32 := 256#32
  let v6519 : BitVec 32 := Scalar.muli v6518 c256_i32_4062
  let c169_i32_4063 : BitVec 32 := 169#32
  let v6520 : BitVec 32 := Scalar.addi v6519 c169_i32_4063
  let c8_i32_4067 : BitVec 32 := 8#32
  let v6525 : BitVec 32 := Scalar.muli v6520 c8_i32_4067
  v6525
def k0_off1723 (i : grid0.Coords) : Fin 1 → Nat :=
  let c1_i32_4064 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6521 : BitVec 32 := Scalar.subi c1_i32_4064 v9
  ![v6521.toNat]
def k0_off1724 (i : grid0.Coords) : Fin 3 → Nat :=
  let c1_i32_4064 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6521 : BitVec 32 := Scalar.subi c1_i32_4064 v9
  let arg1 : BitVec 32 := BitVec.ofNat 32 (i 1).val
  let c2_i32_4060 : BitVec 32 := 2#32
  let v6517 : BitVec 32 := Scalar.muli arg1 c2_i32_4060
  let c1_i32_4061 : BitVec 32 := 1#32
  let v6518 : BitVec 32 := Scalar.addi v6517 c1_i32_4061
  let c256_i32_4062 : BitVec 32 := 256#32
  let v6519 : BitVec 32 := Scalar.muli v6518 c256_i32_4062
  let c169_i32_4063 : BitVec 32 := 169#32
  let v6520 : BitVec 32 := Scalar.addi v6519 c169_i32_4063
  let c8_i32_4067 : BitVec 32 := 8#32
  let v6525 : BitVec 32 := Scalar.muli v6520 c8_i32_4067
  let v6526 : BitVec 32 := v6525
  let c0_i32_4068 : BitVec 32 := 0#32
  ![v6521.toNat, v6526.toNat, 0]
def k0_off1725 (v6523 : BitVec 32) : Fin 2 → Nat :=
  let v6524 : BitVec 32 := v6523
  let c0_i32_4069 : BitVec 32 := 0#32
  ![v6524.toNat, 0]

def k0_chk427 (i : grid0.Coords) (v6523 : BitVec 32) : Prop :=
  (∀ (k0_h2 : k0_cond2 i = 1#1), 8 ∣ (k0_mult853 v6523).toNat) ∧
  (∀ (k0_h2 : k0_cond2 i = 1#1), ∀ a, (k0_off1725 v6523) a + S8x128.size a ≤ S131072x128.size a)
theorem k0_mult853_dvd : ∀ (i : grid0.Coords) (v6523 : BitVec 32) (k0_hw427 : k0_chk427 i v6523), ∀ (k0_h2 : k0_cond2 i = 1#1), 8 ∣ (k0_mult853 v6523).toNat := fun i v6523 k0_hw427 k0_h2 => k0_hw427.1 k0_h2
theorem k0_off1725_inb : ∀ (i : grid0.Coords) (v6523 : BitVec 32) (k0_hw427 : k0_chk427 i v6523), ∀ (k0_h2 : k0_cond2 i = 1#1), ∀ a, (k0_off1725 v6523) a + S8x128.size a ≤ S131072x128.size a := fun i v6523 k0_hw427 k0_h2 => k0_hw427.2 k0_h2

def k0_off1726 (i : grid0.Coords) : Fin 3 → Nat :=
  let c0_4075 : Index := 0#32
  let c0_4076 : Index := 0#32
  let arg1 : BitVec 32 := BitVec.ofNat 32 (i 1).val
  let c2_i32_4070 : BitVec 32 := 2#32
  let v6532 : BitVec 32 := Scalar.muli arg1 c2_i32_4070
  let c1_i32_4071 : BitVec 32 := 1#32
  let v6533 : BitVec 32 := Scalar.addi v6532 c1_i32_4071
  let c256_i32_4072 : BitVec 32 := 256#32
  let v6534 : BitVec 32 := Scalar.muli v6533 c256_i32_4072
  let c170_i32_4073 : BitVec 32 := 170#32
  let v6535 : BitVec 32 := Scalar.addi v6534 c170_i32_4073
  let v6537 : Index := Scalar.indexCast v6535
  ![0, 0, v6537.toNat]
def k0_mult855 (v6538 : BitVec 32) : BitVec 32 :=
  v6538

def k0_mult856 (i : grid0.Coords) : BitVec 32 :=
  let arg1 : BitVec 32 := BitVec.ofNat 32 (i 1).val
  let c2_i32_4070 : BitVec 32 := 2#32
  let v6532 : BitVec 32 := Scalar.muli arg1 c2_i32_4070
  let c1_i32_4071 : BitVec 32 := 1#32
  let v6533 : BitVec 32 := Scalar.addi v6532 c1_i32_4071
  let c256_i32_4072 : BitVec 32 := 256#32
  let v6534 : BitVec 32 := Scalar.muli v6533 c256_i32_4072
  let c170_i32_4073 : BitVec 32 := 170#32
  let v6535 : BitVec 32 := Scalar.addi v6534 c170_i32_4073
  let c8_i32_4077 : BitVec 32 := 8#32
  let v6540 : BitVec 32 := Scalar.muli v6535 c8_i32_4077
  v6540
def k0_off1727 (i : grid0.Coords) : Fin 1 → Nat :=
  let c1_i32_4074 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6536 : BitVec 32 := Scalar.subi c1_i32_4074 v9
  ![v6536.toNat]
def k0_off1728 (i : grid0.Coords) : Fin 3 → Nat :=
  let c1_i32_4074 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6536 : BitVec 32 := Scalar.subi c1_i32_4074 v9
  let arg1 : BitVec 32 := BitVec.ofNat 32 (i 1).val
  let c2_i32_4070 : BitVec 32 := 2#32
  let v6532 : BitVec 32 := Scalar.muli arg1 c2_i32_4070
  let c1_i32_4071 : BitVec 32 := 1#32
  let v6533 : BitVec 32 := Scalar.addi v6532 c1_i32_4071
  let c256_i32_4072 : BitVec 32 := 256#32
  let v6534 : BitVec 32 := Scalar.muli v6533 c256_i32_4072
  let c170_i32_4073 : BitVec 32 := 170#32
  let v6535 : BitVec 32 := Scalar.addi v6534 c170_i32_4073
  let c8_i32_4077 : BitVec 32 := 8#32
  let v6540 : BitVec 32 := Scalar.muli v6535 c8_i32_4077
  let v6541 : BitVec 32 := v6540
  let c0_i32_4078 : BitVec 32 := 0#32
  ![v6536.toNat, v6541.toNat, 0]
def k0_off1729 (v6538 : BitVec 32) : Fin 2 → Nat :=
  let v6539 : BitVec 32 := v6538
  let c0_i32_4079 : BitVec 32 := 0#32
  ![v6539.toNat, 0]

def k0_chk428 (i : grid0.Coords) (v6538 : BitVec 32) : Prop :=
  (∀ (k0_h2 : k0_cond2 i = 1#1), 8 ∣ (k0_mult855 v6538).toNat) ∧
  (∀ (k0_h2 : k0_cond2 i = 1#1), ∀ a, (k0_off1729 v6538) a + S8x128.size a ≤ S131072x128.size a)
theorem k0_mult855_dvd : ∀ (i : grid0.Coords) (v6538 : BitVec 32) (k0_hw428 : k0_chk428 i v6538), ∀ (k0_h2 : k0_cond2 i = 1#1), 8 ∣ (k0_mult855 v6538).toNat := fun i v6538 k0_hw428 k0_h2 => k0_hw428.1 k0_h2
theorem k0_off1729_inb : ∀ (i : grid0.Coords) (v6538 : BitVec 32) (k0_hw428 : k0_chk428 i v6538), ∀ (k0_h2 : k0_cond2 i = 1#1), ∀ a, (k0_off1729 v6538) a + S8x128.size a ≤ S131072x128.size a := fun i v6538 k0_hw428 k0_h2 => k0_hw428.2 k0_h2

def k0_off1730 (i : grid0.Coords) : Fin 3 → Nat :=
  let c0_4085 : Index := 0#32
  let c0_4086 : Index := 0#32
  let arg1 : BitVec 32 := BitVec.ofNat 32 (i 1).val
  let c2_i32_4080 : BitVec 32 := 2#32
  let v6547 : BitVec 32 := Scalar.muli arg1 c2_i32_4080
  let c1_i32_4081 : BitVec 32 := 1#32
  let v6548 : BitVec 32 := Scalar.addi v6547 c1_i32_4081
  let c256_i32_4082 : BitVec 32 := 256#32
  let v6549 : BitVec 32 := Scalar.muli v6548 c256_i32_4082
  let c171_i32_4083 : BitVec 32 := 171#32
  let v6550 : BitVec 32 := Scalar.addi v6549 c171_i32_4083
  let v6552 : Index := Scalar.indexCast v6550
  ![0, 0, v6552.toNat]
def k0_mult857 (v6553 : BitVec 32) : BitVec 32 :=
  v6553

def k0_mult858 (i : grid0.Coords) : BitVec 32 :=
  let arg1 : BitVec 32 := BitVec.ofNat 32 (i 1).val
  let c2_i32_4080 : BitVec 32 := 2#32
  let v6547 : BitVec 32 := Scalar.muli arg1 c2_i32_4080
  let c1_i32_4081 : BitVec 32 := 1#32
  let v6548 : BitVec 32 := Scalar.addi v6547 c1_i32_4081
  let c256_i32_4082 : BitVec 32 := 256#32
  let v6549 : BitVec 32 := Scalar.muli v6548 c256_i32_4082
  let c171_i32_4083 : BitVec 32 := 171#32
  let v6550 : BitVec 32 := Scalar.addi v6549 c171_i32_4083
  let c8_i32_4087 : BitVec 32 := 8#32
  let v6555 : BitVec 32 := Scalar.muli v6550 c8_i32_4087
  v6555
def k0_off1731 (i : grid0.Coords) : Fin 1 → Nat :=
  let c1_i32_4084 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6551 : BitVec 32 := Scalar.subi c1_i32_4084 v9
  ![v6551.toNat]
def k0_off1732 (i : grid0.Coords) : Fin 3 → Nat :=
  let c1_i32_4084 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6551 : BitVec 32 := Scalar.subi c1_i32_4084 v9
  let arg1 : BitVec 32 := BitVec.ofNat 32 (i 1).val
  let c2_i32_4080 : BitVec 32 := 2#32
  let v6547 : BitVec 32 := Scalar.muli arg1 c2_i32_4080
  let c1_i32_4081 : BitVec 32 := 1#32
  let v6548 : BitVec 32 := Scalar.addi v6547 c1_i32_4081
  let c256_i32_4082 : BitVec 32 := 256#32
  let v6549 : BitVec 32 := Scalar.muli v6548 c256_i32_4082
  let c171_i32_4083 : BitVec 32 := 171#32
  let v6550 : BitVec 32 := Scalar.addi v6549 c171_i32_4083
  let c8_i32_4087 : BitVec 32 := 8#32
  let v6555 : BitVec 32 := Scalar.muli v6550 c8_i32_4087
  let v6556 : BitVec 32 := v6555
  let c0_i32_4088 : BitVec 32 := 0#32
  ![v6551.toNat, v6556.toNat, 0]
def k0_off1733 (v6553 : BitVec 32) : Fin 2 → Nat :=
  let v6554 : BitVec 32 := v6553
  let c0_i32_4089 : BitVec 32 := 0#32
  ![v6554.toNat, 0]

def k0_chk429 (i : grid0.Coords) (v6553 : BitVec 32) : Prop :=
  (∀ (k0_h2 : k0_cond2 i = 1#1), 8 ∣ (k0_mult857 v6553).toNat) ∧
  (∀ (k0_h2 : k0_cond2 i = 1#1), ∀ a, (k0_off1733 v6553) a + S8x128.size a ≤ S131072x128.size a)
theorem k0_mult857_dvd : ∀ (i : grid0.Coords) (v6553 : BitVec 32) (k0_hw429 : k0_chk429 i v6553), ∀ (k0_h2 : k0_cond2 i = 1#1), 8 ∣ (k0_mult857 v6553).toNat := fun i v6553 k0_hw429 k0_h2 => k0_hw429.1 k0_h2
theorem k0_off1733_inb : ∀ (i : grid0.Coords) (v6553 : BitVec 32) (k0_hw429 : k0_chk429 i v6553), ∀ (k0_h2 : k0_cond2 i = 1#1), ∀ a, (k0_off1733 v6553) a + S8x128.size a ≤ S131072x128.size a := fun i v6553 k0_hw429 k0_h2 => k0_hw429.2 k0_h2

def k0_off1734 (i : grid0.Coords) : Fin 3 → Nat :=
  let c0_4095 : Index := 0#32
  let c0_4096 : Index := 0#32
  let arg1 : BitVec 32 := BitVec.ofNat 32 (i 1).val
  let c2_i32_4090 : BitVec 32 := 2#32
  let v6562 : BitVec 32 := Scalar.muli arg1 c2_i32_4090
  let c1_i32_4091 : BitVec 32 := 1#32
  let v6563 : BitVec 32 := Scalar.addi v6562 c1_i32_4091
  let c256_i32_4092 : BitVec 32 := 256#32
  let v6564 : BitVec 32 := Scalar.muli v6563 c256_i32_4092
  let c172_i32_4093 : BitVec 32 := 172#32
  let v6565 : BitVec 32 := Scalar.addi v6564 c172_i32_4093
  let v6567 : Index := Scalar.indexCast v6565
  ![0, 0, v6567.toNat]
def k0_mult859 (v6568 : BitVec 32) : BitVec 32 :=
  v6568

def k0_mult860 (i : grid0.Coords) : BitVec 32 :=
  let arg1 : BitVec 32 := BitVec.ofNat 32 (i 1).val
  let c2_i32_4090 : BitVec 32 := 2#32
  let v6562 : BitVec 32 := Scalar.muli arg1 c2_i32_4090
  let c1_i32_4091 : BitVec 32 := 1#32
  let v6563 : BitVec 32 := Scalar.addi v6562 c1_i32_4091
  let c256_i32_4092 : BitVec 32 := 256#32
  let v6564 : BitVec 32 := Scalar.muli v6563 c256_i32_4092
  let c172_i32_4093 : BitVec 32 := 172#32
  let v6565 : BitVec 32 := Scalar.addi v6564 c172_i32_4093
  let c8_i32_4097 : BitVec 32 := 8#32
  let v6570 : BitVec 32 := Scalar.muli v6565 c8_i32_4097
  v6570
def k0_off1735 (i : grid0.Coords) : Fin 1 → Nat :=
  let c1_i32_4094 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6566 : BitVec 32 := Scalar.subi c1_i32_4094 v9
  ![v6566.toNat]
def k0_off1736 (i : grid0.Coords) : Fin 3 → Nat :=
  let c1_i32_4094 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6566 : BitVec 32 := Scalar.subi c1_i32_4094 v9
  let arg1 : BitVec 32 := BitVec.ofNat 32 (i 1).val
  let c2_i32_4090 : BitVec 32 := 2#32
  let v6562 : BitVec 32 := Scalar.muli arg1 c2_i32_4090
  let c1_i32_4091 : BitVec 32 := 1#32
  let v6563 : BitVec 32 := Scalar.addi v6562 c1_i32_4091
  let c256_i32_4092 : BitVec 32 := 256#32
  let v6564 : BitVec 32 := Scalar.muli v6563 c256_i32_4092
  let c172_i32_4093 : BitVec 32 := 172#32
  let v6565 : BitVec 32 := Scalar.addi v6564 c172_i32_4093
  let c8_i32_4097 : BitVec 32 := 8#32
  let v6570 : BitVec 32 := Scalar.muli v6565 c8_i32_4097
  let v6571 : BitVec 32 := v6570
  let c0_i32_4098 : BitVec 32 := 0#32
  ![v6566.toNat, v6571.toNat, 0]
def k0_off1737 (v6568 : BitVec 32) : Fin 2 → Nat :=
  let v6569 : BitVec 32 := v6568
  let c0_i32_4099 : BitVec 32 := 0#32
  ![v6569.toNat, 0]

def k0_chk430 (i : grid0.Coords) (v6568 : BitVec 32) : Prop :=
  (∀ (k0_h2 : k0_cond2 i = 1#1), 8 ∣ (k0_mult859 v6568).toNat) ∧
  (∀ (k0_h2 : k0_cond2 i = 1#1), ∀ a, (k0_off1737 v6568) a + S8x128.size a ≤ S131072x128.size a)
theorem k0_mult859_dvd : ∀ (i : grid0.Coords) (v6568 : BitVec 32) (k0_hw430 : k0_chk430 i v6568), ∀ (k0_h2 : k0_cond2 i = 1#1), 8 ∣ (k0_mult859 v6568).toNat := fun i v6568 k0_hw430 k0_h2 => k0_hw430.1 k0_h2
theorem k0_off1737_inb : ∀ (i : grid0.Coords) (v6568 : BitVec 32) (k0_hw430 : k0_chk430 i v6568), ∀ (k0_h2 : k0_cond2 i = 1#1), ∀ a, (k0_off1737 v6568) a + S8x128.size a ≤ S131072x128.size a := fun i v6568 k0_hw430 k0_h2 => k0_hw430.2 k0_h2

def k0_off1738 (i : grid0.Coords) : Fin 3 → Nat :=
  let c0_4105 : Index := 0#32
  let c0_4106 : Index := 0#32
  let arg1 : BitVec 32 := BitVec.ofNat 32 (i 1).val
  let c2_i32_4100 : BitVec 32 := 2#32
  let v6577 : BitVec 32 := Scalar.muli arg1 c2_i32_4100
  let c1_i32_4101 : BitVec 32 := 1#32
  let v6578 : BitVec 32 := Scalar.addi v6577 c1_i32_4101
  let c256_i32_4102 : BitVec 32 := 256#32
  let v6579 : BitVec 32 := Scalar.muli v6578 c256_i32_4102
  let c173_i32_4103 : BitVec 32 := 173#32
  let v6580 : BitVec 32 := Scalar.addi v6579 c173_i32_4103
  let v6582 : Index := Scalar.indexCast v6580
  ![0, 0, v6582.toNat]
def k0_mult861 (v6583 : BitVec 32) : BitVec 32 :=
  v6583

def k0_mult862 (i : grid0.Coords) : BitVec 32 :=
  let arg1 : BitVec 32 := BitVec.ofNat 32 (i 1).val
  let c2_i32_4100 : BitVec 32 := 2#32
  let v6577 : BitVec 32 := Scalar.muli arg1 c2_i32_4100
  let c1_i32_4101 : BitVec 32 := 1#32
  let v6578 : BitVec 32 := Scalar.addi v6577 c1_i32_4101
  let c256_i32_4102 : BitVec 32 := 256#32
  let v6579 : BitVec 32 := Scalar.muli v6578 c256_i32_4102
  let c173_i32_4103 : BitVec 32 := 173#32
  let v6580 : BitVec 32 := Scalar.addi v6579 c173_i32_4103
  let c8_i32_4107 : BitVec 32 := 8#32
  let v6585 : BitVec 32 := Scalar.muli v6580 c8_i32_4107
  v6585
def k0_off1739 (i : grid0.Coords) : Fin 1 → Nat :=
  let c1_i32_4104 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6581 : BitVec 32 := Scalar.subi c1_i32_4104 v9
  ![v6581.toNat]
def k0_off1740 (i : grid0.Coords) : Fin 3 → Nat :=
  let c1_i32_4104 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6581 : BitVec 32 := Scalar.subi c1_i32_4104 v9
  let arg1 : BitVec 32 := BitVec.ofNat 32 (i 1).val
  let c2_i32_4100 : BitVec 32 := 2#32
  let v6577 : BitVec 32 := Scalar.muli arg1 c2_i32_4100
  let c1_i32_4101 : BitVec 32 := 1#32
  let v6578 : BitVec 32 := Scalar.addi v6577 c1_i32_4101
  let c256_i32_4102 : BitVec 32 := 256#32
  let v6579 : BitVec 32 := Scalar.muli v6578 c256_i32_4102
  let c173_i32_4103 : BitVec 32 := 173#32
  let v6580 : BitVec 32 := Scalar.addi v6579 c173_i32_4103
  let c8_i32_4107 : BitVec 32 := 8#32
  let v6585 : BitVec 32 := Scalar.muli v6580 c8_i32_4107
  let v6586 : BitVec 32 := v6585
  let c0_i32_4108 : BitVec 32 := 0#32
  ![v6581.toNat, v6586.toNat, 0]
def k0_off1741 (v6583 : BitVec 32) : Fin 2 → Nat :=
  let v6584 : BitVec 32 := v6583
  let c0_i32_4109 : BitVec 32 := 0#32
  ![v6584.toNat, 0]

def k0_chk431 (i : grid0.Coords) (v6583 : BitVec 32) : Prop :=
  (∀ (k0_h2 : k0_cond2 i = 1#1), 8 ∣ (k0_mult861 v6583).toNat) ∧
  (∀ (k0_h2 : k0_cond2 i = 1#1), ∀ a, (k0_off1741 v6583) a + S8x128.size a ≤ S131072x128.size a)
theorem k0_mult861_dvd : ∀ (i : grid0.Coords) (v6583 : BitVec 32) (k0_hw431 : k0_chk431 i v6583), ∀ (k0_h2 : k0_cond2 i = 1#1), 8 ∣ (k0_mult861 v6583).toNat := fun i v6583 k0_hw431 k0_h2 => k0_hw431.1 k0_h2
theorem k0_off1741_inb : ∀ (i : grid0.Coords) (v6583 : BitVec 32) (k0_hw431 : k0_chk431 i v6583), ∀ (k0_h2 : k0_cond2 i = 1#1), ∀ a, (k0_off1741 v6583) a + S8x128.size a ≤ S131072x128.size a := fun i v6583 k0_hw431 k0_h2 => k0_hw431.2 k0_h2

def k0_off1742 (i : grid0.Coords) : Fin 3 → Nat :=
  let c0_4115 : Index := 0#32
  let c0_4116 : Index := 0#32
  let arg1 : BitVec 32 := BitVec.ofNat 32 (i 1).val
  let c2_i32_4110 : BitVec 32 := 2#32
  let v6592 : BitVec 32 := Scalar.muli arg1 c2_i32_4110
  let c1_i32_4111 : BitVec 32 := 1#32
  let v6593 : BitVec 32 := Scalar.addi v6592 c1_i32_4111
  let c256_i32_4112 : BitVec 32 := 256#32
  let v6594 : BitVec 32 := Scalar.muli v6593 c256_i32_4112
  let c174_i32_4113 : BitVec 32 := 174#32
  let v6595 : BitVec 32 := Scalar.addi v6594 c174_i32_4113
  let v6597 : Index := Scalar.indexCast v6595
  ![0, 0, v6597.toNat]
def k0_mult863 (v6598 : BitVec 32) : BitVec 32 :=
  v6598

def k0_mult864 (i : grid0.Coords) : BitVec 32 :=
  let arg1 : BitVec 32 := BitVec.ofNat 32 (i 1).val
  let c2_i32_4110 : BitVec 32 := 2#32
  let v6592 : BitVec 32 := Scalar.muli arg1 c2_i32_4110
  let c1_i32_4111 : BitVec 32 := 1#32
  let v6593 : BitVec 32 := Scalar.addi v6592 c1_i32_4111
  let c256_i32_4112 : BitVec 32 := 256#32
  let v6594 : BitVec 32 := Scalar.muli v6593 c256_i32_4112
  let c174_i32_4113 : BitVec 32 := 174#32
  let v6595 : BitVec 32 := Scalar.addi v6594 c174_i32_4113
  let c8_i32_4117 : BitVec 32 := 8#32
  let v6600 : BitVec 32 := Scalar.muli v6595 c8_i32_4117
  v6600
def k0_off1743 (i : grid0.Coords) : Fin 1 → Nat :=
  let c1_i32_4114 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6596 : BitVec 32 := Scalar.subi c1_i32_4114 v9
  ![v6596.toNat]
def k0_off1744 (i : grid0.Coords) : Fin 3 → Nat :=
  let c1_i32_4114 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6596 : BitVec 32 := Scalar.subi c1_i32_4114 v9
  let arg1 : BitVec 32 := BitVec.ofNat 32 (i 1).val
  let c2_i32_4110 : BitVec 32 := 2#32
  let v6592 : BitVec 32 := Scalar.muli arg1 c2_i32_4110
  let c1_i32_4111 : BitVec 32 := 1#32
  let v6593 : BitVec 32 := Scalar.addi v6592 c1_i32_4111
  let c256_i32_4112 : BitVec 32 := 256#32
  let v6594 : BitVec 32 := Scalar.muli v6593 c256_i32_4112
  let c174_i32_4113 : BitVec 32 := 174#32
  let v6595 : BitVec 32 := Scalar.addi v6594 c174_i32_4113
  let c8_i32_4117 : BitVec 32 := 8#32
  let v6600 : BitVec 32 := Scalar.muli v6595 c8_i32_4117
  let v6601 : BitVec 32 := v6600
  let c0_i32_4118 : BitVec 32 := 0#32
  ![v6596.toNat, v6601.toNat, 0]
def k0_off1745 (v6598 : BitVec 32) : Fin 2 → Nat :=
  let v6599 : BitVec 32 := v6598
  let c0_i32_4119 : BitVec 32 := 0#32
  ![v6599.toNat, 0]

def k0_chk432 (i : grid0.Coords) (v6598 : BitVec 32) : Prop :=
  (∀ (k0_h2 : k0_cond2 i = 1#1), 8 ∣ (k0_mult863 v6598).toNat) ∧
  (∀ (k0_h2 : k0_cond2 i = 1#1), ∀ a, (k0_off1745 v6598) a + S8x128.size a ≤ S131072x128.size a)
theorem k0_mult863_dvd : ∀ (i : grid0.Coords) (v6598 : BitVec 32) (k0_hw432 : k0_chk432 i v6598), ∀ (k0_h2 : k0_cond2 i = 1#1), 8 ∣ (k0_mult863 v6598).toNat := fun i v6598 k0_hw432 k0_h2 => k0_hw432.1 k0_h2
theorem k0_off1745_inb : ∀ (i : grid0.Coords) (v6598 : BitVec 32) (k0_hw432 : k0_chk432 i v6598), ∀ (k0_h2 : k0_cond2 i = 1#1), ∀ a, (k0_off1745 v6598) a + S8x128.size a ≤ S131072x128.size a := fun i v6598 k0_hw432 k0_h2 => k0_hw432.2 k0_h2

def k0_off1746 (i : grid0.Coords) : Fin 3 → Nat :=
  let c0_4125 : Index := 0#32
  let c0_4126 : Index := 0#32
  let arg1 : BitVec 32 := BitVec.ofNat 32 (i 1).val
  let c2_i32_4120 : BitVec 32 := 2#32
  let v6607 : BitVec 32 := Scalar.muli arg1 c2_i32_4120
  let c1_i32_4121 : BitVec 32 := 1#32
  let v6608 : BitVec 32 := Scalar.addi v6607 c1_i32_4121
  let c256_i32_4122 : BitVec 32 := 256#32
  let v6609 : BitVec 32 := Scalar.muli v6608 c256_i32_4122
  let c175_i32_4123 : BitVec 32 := 175#32
  let v6610 : BitVec 32 := Scalar.addi v6609 c175_i32_4123
  let v6612 : Index := Scalar.indexCast v6610
  ![0, 0, v6612.toNat]
def k0_mult865 (v6613 : BitVec 32) : BitVec 32 :=
  v6613

def k0_mult866 (i : grid0.Coords) : BitVec 32 :=
  let arg1 : BitVec 32 := BitVec.ofNat 32 (i 1).val
  let c2_i32_4120 : BitVec 32 := 2#32
  let v6607 : BitVec 32 := Scalar.muli arg1 c2_i32_4120
  let c1_i32_4121 : BitVec 32 := 1#32
  let v6608 : BitVec 32 := Scalar.addi v6607 c1_i32_4121
  let c256_i32_4122 : BitVec 32 := 256#32
  let v6609 : BitVec 32 := Scalar.muli v6608 c256_i32_4122
  let c175_i32_4123 : BitVec 32 := 175#32
  let v6610 : BitVec 32 := Scalar.addi v6609 c175_i32_4123
  let c8_i32_4127 : BitVec 32 := 8#32
  let v6615 : BitVec 32 := Scalar.muli v6610 c8_i32_4127
  v6615
def k0_off1747 (i : grid0.Coords) : Fin 1 → Nat :=
  let c1_i32_4124 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6611 : BitVec 32 := Scalar.subi c1_i32_4124 v9
  ![v6611.toNat]
def k0_off1748 (i : grid0.Coords) : Fin 3 → Nat :=
  let c1_i32_4124 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6611 : BitVec 32 := Scalar.subi c1_i32_4124 v9
  let arg1 : BitVec 32 := BitVec.ofNat 32 (i 1).val
  let c2_i32_4120 : BitVec 32 := 2#32
  let v6607 : BitVec 32 := Scalar.muli arg1 c2_i32_4120
  let c1_i32_4121 : BitVec 32 := 1#32
  let v6608 : BitVec 32 := Scalar.addi v6607 c1_i32_4121
  let c256_i32_4122 : BitVec 32 := 256#32
  let v6609 : BitVec 32 := Scalar.muli v6608 c256_i32_4122
  let c175_i32_4123 : BitVec 32 := 175#32
  let v6610 : BitVec 32 := Scalar.addi v6609 c175_i32_4123
  let c8_i32_4127 : BitVec 32 := 8#32
  let v6615 : BitVec 32 := Scalar.muli v6610 c8_i32_4127
  let v6616 : BitVec 32 := v6615
  let c0_i32_4128 : BitVec 32 := 0#32
  ![v6611.toNat, v6616.toNat, 0]
def k0_off1749 (v6613 : BitVec 32) : Fin 2 → Nat :=
  let v6614 : BitVec 32 := v6613
  let c0_i32_4129 : BitVec 32 := 0#32
  ![v6614.toNat, 0]

def k0_chk433 (i : grid0.Coords) (v6613 : BitVec 32) : Prop :=
  (∀ (k0_h2 : k0_cond2 i = 1#1), 8 ∣ (k0_mult865 v6613).toNat) ∧
  (∀ (k0_h2 : k0_cond2 i = 1#1), ∀ a, (k0_off1749 v6613) a + S8x128.size a ≤ S131072x128.size a)
theorem k0_mult865_dvd : ∀ (i : grid0.Coords) (v6613 : BitVec 32) (k0_hw433 : k0_chk433 i v6613), ∀ (k0_h2 : k0_cond2 i = 1#1), 8 ∣ (k0_mult865 v6613).toNat := fun i v6613 k0_hw433 k0_h2 => k0_hw433.1 k0_h2
theorem k0_off1749_inb : ∀ (i : grid0.Coords) (v6613 : BitVec 32) (k0_hw433 : k0_chk433 i v6613), ∀ (k0_h2 : k0_cond2 i = 1#1), ∀ a, (k0_off1749 v6613) a + S8x128.size a ≤ S131072x128.size a := fun i v6613 k0_hw433 k0_h2 => k0_hw433.2 k0_h2

def k0_off1750 (i : grid0.Coords) : Fin 3 → Nat :=
  let c0_4135 : Index := 0#32
  let c0_4136 : Index := 0#32
  let arg1 : BitVec 32 := BitVec.ofNat 32 (i 1).val
  let c2_i32_4130 : BitVec 32 := 2#32
  let v6622 : BitVec 32 := Scalar.muli arg1 c2_i32_4130
  let c1_i32_4131 : BitVec 32 := 1#32
  let v6623 : BitVec 32 := Scalar.addi v6622 c1_i32_4131
  let c256_i32_4132 : BitVec 32 := 256#32
  let v6624 : BitVec 32 := Scalar.muli v6623 c256_i32_4132
  let c176_i32_4133 : BitVec 32 := 176#32
  let v6625 : BitVec 32 := Scalar.addi v6624 c176_i32_4133
  let v6627 : Index := Scalar.indexCast v6625
  ![0, 0, v6627.toNat]
def k0_mult867 (v6628 : BitVec 32) : BitVec 32 :=
  v6628

def k0_mult868 (i : grid0.Coords) : BitVec 32 :=
  let arg1 : BitVec 32 := BitVec.ofNat 32 (i 1).val
  let c2_i32_4130 : BitVec 32 := 2#32
  let v6622 : BitVec 32 := Scalar.muli arg1 c2_i32_4130
  let c1_i32_4131 : BitVec 32 := 1#32
  let v6623 : BitVec 32 := Scalar.addi v6622 c1_i32_4131
  let c256_i32_4132 : BitVec 32 := 256#32
  let v6624 : BitVec 32 := Scalar.muli v6623 c256_i32_4132
  let c176_i32_4133 : BitVec 32 := 176#32
  let v6625 : BitVec 32 := Scalar.addi v6624 c176_i32_4133
  let c8_i32_4137 : BitVec 32 := 8#32
  let v6630 : BitVec 32 := Scalar.muli v6625 c8_i32_4137
  v6630
def k0_off1751 (i : grid0.Coords) : Fin 1 → Nat :=
  let c1_i32_4134 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6626 : BitVec 32 := Scalar.subi c1_i32_4134 v9
  ![v6626.toNat]
def k0_off1752 (i : grid0.Coords) : Fin 3 → Nat :=
  let c1_i32_4134 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6626 : BitVec 32 := Scalar.subi c1_i32_4134 v9
  let arg1 : BitVec 32 := BitVec.ofNat 32 (i 1).val
  let c2_i32_4130 : BitVec 32 := 2#32
  let v6622 : BitVec 32 := Scalar.muli arg1 c2_i32_4130
  let c1_i32_4131 : BitVec 32 := 1#32
  let v6623 : BitVec 32 := Scalar.addi v6622 c1_i32_4131
  let c256_i32_4132 : BitVec 32 := 256#32
  let v6624 : BitVec 32 := Scalar.muli v6623 c256_i32_4132
  let c176_i32_4133 : BitVec 32 := 176#32
  let v6625 : BitVec 32 := Scalar.addi v6624 c176_i32_4133
  let c8_i32_4137 : BitVec 32 := 8#32
  let v6630 : BitVec 32 := Scalar.muli v6625 c8_i32_4137
  let v6631 : BitVec 32 := v6630
  let c0_i32_4138 : BitVec 32 := 0#32
  ![v6626.toNat, v6631.toNat, 0]
def k0_off1753 (v6628 : BitVec 32) : Fin 2 → Nat :=
  let v6629 : BitVec 32 := v6628
  let c0_i32_4139 : BitVec 32 := 0#32
  ![v6629.toNat, 0]

def k0_chk434 (i : grid0.Coords) (v6628 : BitVec 32) : Prop :=
  (∀ (k0_h2 : k0_cond2 i = 1#1), 8 ∣ (k0_mult867 v6628).toNat) ∧
  (∀ (k0_h2 : k0_cond2 i = 1#1), ∀ a, (k0_off1753 v6628) a + S8x128.size a ≤ S131072x128.size a)
theorem k0_mult867_dvd : ∀ (i : grid0.Coords) (v6628 : BitVec 32) (k0_hw434 : k0_chk434 i v6628), ∀ (k0_h2 : k0_cond2 i = 1#1), 8 ∣ (k0_mult867 v6628).toNat := fun i v6628 k0_hw434 k0_h2 => k0_hw434.1 k0_h2
theorem k0_off1753_inb : ∀ (i : grid0.Coords) (v6628 : BitVec 32) (k0_hw434 : k0_chk434 i v6628), ∀ (k0_h2 : k0_cond2 i = 1#1), ∀ a, (k0_off1753 v6628) a + S8x128.size a ≤ S131072x128.size a := fun i v6628 k0_hw434 k0_h2 => k0_hw434.2 k0_h2

def k0_off1754 (i : grid0.Coords) : Fin 3 → Nat :=
  let c0_4145 : Index := 0#32
  let c0_4146 : Index := 0#32
  let arg1 : BitVec 32 := BitVec.ofNat 32 (i 1).val
  let c2_i32_4140 : BitVec 32 := 2#32
  let v6637 : BitVec 32 := Scalar.muli arg1 c2_i32_4140
  let c1_i32_4141 : BitVec 32 := 1#32
  let v6638 : BitVec 32 := Scalar.addi v6637 c1_i32_4141
  let c256_i32_4142 : BitVec 32 := 256#32
  let v6639 : BitVec 32 := Scalar.muli v6638 c256_i32_4142
  let c177_i32_4143 : BitVec 32 := 177#32
  let v6640 : BitVec 32 := Scalar.addi v6639 c177_i32_4143
  let v6642 : Index := Scalar.indexCast v6640
  ![0, 0, v6642.toNat]
def k0_mult869 (v6643 : BitVec 32) : BitVec 32 :=
  v6643

def k0_mult870 (i : grid0.Coords) : BitVec 32 :=
  let arg1 : BitVec 32 := BitVec.ofNat 32 (i 1).val
  let c2_i32_4140 : BitVec 32 := 2#32
  let v6637 : BitVec 32 := Scalar.muli arg1 c2_i32_4140
  let c1_i32_4141 : BitVec 32 := 1#32
  let v6638 : BitVec 32 := Scalar.addi v6637 c1_i32_4141
  let c256_i32_4142 : BitVec 32 := 256#32
  let v6639 : BitVec 32 := Scalar.muli v6638 c256_i32_4142
  let c177_i32_4143 : BitVec 32 := 177#32
  let v6640 : BitVec 32 := Scalar.addi v6639 c177_i32_4143
  let c8_i32_4147 : BitVec 32 := 8#32
  let v6645 : BitVec 32 := Scalar.muli v6640 c8_i32_4147
  v6645
def k0_off1755 (i : grid0.Coords) : Fin 1 → Nat :=
  let c1_i32_4144 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6641 : BitVec 32 := Scalar.subi c1_i32_4144 v9
  ![v6641.toNat]
def k0_off1756 (i : grid0.Coords) : Fin 3 → Nat :=
  let c1_i32_4144 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6641 : BitVec 32 := Scalar.subi c1_i32_4144 v9
  let arg1 : BitVec 32 := BitVec.ofNat 32 (i 1).val
  let c2_i32_4140 : BitVec 32 := 2#32
  let v6637 : BitVec 32 := Scalar.muli arg1 c2_i32_4140
  let c1_i32_4141 : BitVec 32 := 1#32
  let v6638 : BitVec 32 := Scalar.addi v6637 c1_i32_4141
  let c256_i32_4142 : BitVec 32 := 256#32
  let v6639 : BitVec 32 := Scalar.muli v6638 c256_i32_4142
  let c177_i32_4143 : BitVec 32 := 177#32
  let v6640 : BitVec 32 := Scalar.addi v6639 c177_i32_4143
  let c8_i32_4147 : BitVec 32 := 8#32
  let v6645 : BitVec 32 := Scalar.muli v6640 c8_i32_4147
  let v6646 : BitVec 32 := v6645
  let c0_i32_4148 : BitVec 32 := 0#32
  ![v6641.toNat, v6646.toNat, 0]
def k0_off1757 (v6643 : BitVec 32) : Fin 2 → Nat :=
  let v6644 : BitVec 32 := v6643
  let c0_i32_4149 : BitVec 32 := 0#32
  ![v6644.toNat, 0]

def k0_chk435 (i : grid0.Coords) (v6643 : BitVec 32) : Prop :=
  (∀ (k0_h2 : k0_cond2 i = 1#1), 8 ∣ (k0_mult869 v6643).toNat) ∧
  (∀ (k0_h2 : k0_cond2 i = 1#1), ∀ a, (k0_off1757 v6643) a + S8x128.size a ≤ S131072x128.size a)
theorem k0_mult869_dvd : ∀ (i : grid0.Coords) (v6643 : BitVec 32) (k0_hw435 : k0_chk435 i v6643), ∀ (k0_h2 : k0_cond2 i = 1#1), 8 ∣ (k0_mult869 v6643).toNat := fun i v6643 k0_hw435 k0_h2 => k0_hw435.1 k0_h2
theorem k0_off1757_inb : ∀ (i : grid0.Coords) (v6643 : BitVec 32) (k0_hw435 : k0_chk435 i v6643), ∀ (k0_h2 : k0_cond2 i = 1#1), ∀ a, (k0_off1757 v6643) a + S8x128.size a ≤ S131072x128.size a := fun i v6643 k0_hw435 k0_h2 => k0_hw435.2 k0_h2

def k0_off1758 (i : grid0.Coords) : Fin 3 → Nat :=
  let c0_4155 : Index := 0#32
  let c0_4156 : Index := 0#32
  let arg1 : BitVec 32 := BitVec.ofNat 32 (i 1).val
  let c2_i32_4150 : BitVec 32 := 2#32
  let v6652 : BitVec 32 := Scalar.muli arg1 c2_i32_4150
  let c1_i32_4151 : BitVec 32 := 1#32
  let v6653 : BitVec 32 := Scalar.addi v6652 c1_i32_4151
  let c256_i32_4152 : BitVec 32 := 256#32
  let v6654 : BitVec 32 := Scalar.muli v6653 c256_i32_4152
  let c178_i32_4153 : BitVec 32 := 178#32
  let v6655 : BitVec 32 := Scalar.addi v6654 c178_i32_4153
  let v6657 : Index := Scalar.indexCast v6655
  ![0, 0, v6657.toNat]
def k0_mult871 (v6658 : BitVec 32) : BitVec 32 :=
  v6658

def k0_mult872 (i : grid0.Coords) : BitVec 32 :=
  let arg1 : BitVec 32 := BitVec.ofNat 32 (i 1).val
  let c2_i32_4150 : BitVec 32 := 2#32
  let v6652 : BitVec 32 := Scalar.muli arg1 c2_i32_4150
  let c1_i32_4151 : BitVec 32 := 1#32
  let v6653 : BitVec 32 := Scalar.addi v6652 c1_i32_4151
  let c256_i32_4152 : BitVec 32 := 256#32
  let v6654 : BitVec 32 := Scalar.muli v6653 c256_i32_4152
  let c178_i32_4153 : BitVec 32 := 178#32
  let v6655 : BitVec 32 := Scalar.addi v6654 c178_i32_4153
  let c8_i32_4157 : BitVec 32 := 8#32
  let v6660 : BitVec 32 := Scalar.muli v6655 c8_i32_4157
  v6660
def k0_off1759 (i : grid0.Coords) : Fin 1 → Nat :=
  let c1_i32_4154 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6656 : BitVec 32 := Scalar.subi c1_i32_4154 v9
  ![v6656.toNat]
def k0_off1760 (i : grid0.Coords) : Fin 3 → Nat :=
  let c1_i32_4154 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6656 : BitVec 32 := Scalar.subi c1_i32_4154 v9
  let arg1 : BitVec 32 := BitVec.ofNat 32 (i 1).val
  let c2_i32_4150 : BitVec 32 := 2#32
  let v6652 : BitVec 32 := Scalar.muli arg1 c2_i32_4150
  let c1_i32_4151 : BitVec 32 := 1#32
  let v6653 : BitVec 32 := Scalar.addi v6652 c1_i32_4151
  let c256_i32_4152 : BitVec 32 := 256#32
  let v6654 : BitVec 32 := Scalar.muli v6653 c256_i32_4152
  let c178_i32_4153 : BitVec 32 := 178#32
  let v6655 : BitVec 32 := Scalar.addi v6654 c178_i32_4153
  let c8_i32_4157 : BitVec 32 := 8#32
  let v6660 : BitVec 32 := Scalar.muli v6655 c8_i32_4157
  let v6661 : BitVec 32 := v6660
  let c0_i32_4158 : BitVec 32 := 0#32
  ![v6656.toNat, v6661.toNat, 0]
def k0_off1761 (v6658 : BitVec 32) : Fin 2 → Nat :=
  let v6659 : BitVec 32 := v6658
  let c0_i32_4159 : BitVec 32 := 0#32
  ![v6659.toNat, 0]

def k0_chk436 (i : grid0.Coords) (v6658 : BitVec 32) : Prop :=
  (∀ (k0_h2 : k0_cond2 i = 1#1), 8 ∣ (k0_mult871 v6658).toNat) ∧
  (∀ (k0_h2 : k0_cond2 i = 1#1), ∀ a, (k0_off1761 v6658) a + S8x128.size a ≤ S131072x128.size a)
theorem k0_mult871_dvd : ∀ (i : grid0.Coords) (v6658 : BitVec 32) (k0_hw436 : k0_chk436 i v6658), ∀ (k0_h2 : k0_cond2 i = 1#1), 8 ∣ (k0_mult871 v6658).toNat := fun i v6658 k0_hw436 k0_h2 => k0_hw436.1 k0_h2
theorem k0_off1761_inb : ∀ (i : grid0.Coords) (v6658 : BitVec 32) (k0_hw436 : k0_chk436 i v6658), ∀ (k0_h2 : k0_cond2 i = 1#1), ∀ a, (k0_off1761 v6658) a + S8x128.size a ≤ S131072x128.size a := fun i v6658 k0_hw436 k0_h2 => k0_hw436.2 k0_h2

def k0_off1762 (i : grid0.Coords) : Fin 3 → Nat :=
  let c0_4165 : Index := 0#32
  let c0_4166 : Index := 0#32
  let arg1 : BitVec 32 := BitVec.ofNat 32 (i 1).val
  let c2_i32_4160 : BitVec 32 := 2#32
  let v6667 : BitVec 32 := Scalar.muli arg1 c2_i32_4160
  let c1_i32_4161 : BitVec 32 := 1#32
  let v6668 : BitVec 32 := Scalar.addi v6667 c1_i32_4161
  let c256_i32_4162 : BitVec 32 := 256#32
  let v6669 : BitVec 32 := Scalar.muli v6668 c256_i32_4162
  let c179_i32_4163 : BitVec 32 := 179#32
  let v6670 : BitVec 32 := Scalar.addi v6669 c179_i32_4163
  let v6672 : Index := Scalar.indexCast v6670
  ![0, 0, v6672.toNat]
def k0_mult873 (v6673 : BitVec 32) : BitVec 32 :=
  v6673

def k0_mult874 (i : grid0.Coords) : BitVec 32 :=
  let arg1 : BitVec 32 := BitVec.ofNat 32 (i 1).val
  let c2_i32_4160 : BitVec 32 := 2#32
  let v6667 : BitVec 32 := Scalar.muli arg1 c2_i32_4160
  let c1_i32_4161 : BitVec 32 := 1#32
  let v6668 : BitVec 32 := Scalar.addi v6667 c1_i32_4161
  let c256_i32_4162 : BitVec 32 := 256#32
  let v6669 : BitVec 32 := Scalar.muli v6668 c256_i32_4162
  let c179_i32_4163 : BitVec 32 := 179#32
  let v6670 : BitVec 32 := Scalar.addi v6669 c179_i32_4163
  let c8_i32_4167 : BitVec 32 := 8#32
  let v6675 : BitVec 32 := Scalar.muli v6670 c8_i32_4167
  v6675
def k0_off1763 (i : grid0.Coords) : Fin 1 → Nat :=
  let c1_i32_4164 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6671 : BitVec 32 := Scalar.subi c1_i32_4164 v9
  ![v6671.toNat]
def k0_off1764 (i : grid0.Coords) : Fin 3 → Nat :=
  let c1_i32_4164 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6671 : BitVec 32 := Scalar.subi c1_i32_4164 v9
  let arg1 : BitVec 32 := BitVec.ofNat 32 (i 1).val
  let c2_i32_4160 : BitVec 32 := 2#32
  let v6667 : BitVec 32 := Scalar.muli arg1 c2_i32_4160
  let c1_i32_4161 : BitVec 32 := 1#32
  let v6668 : BitVec 32 := Scalar.addi v6667 c1_i32_4161
  let c256_i32_4162 : BitVec 32 := 256#32
  let v6669 : BitVec 32 := Scalar.muli v6668 c256_i32_4162
  let c179_i32_4163 : BitVec 32 := 179#32
  let v6670 : BitVec 32 := Scalar.addi v6669 c179_i32_4163
  let c8_i32_4167 : BitVec 32 := 8#32
  let v6675 : BitVec 32 := Scalar.muli v6670 c8_i32_4167
  let v6676 : BitVec 32 := v6675
  let c0_i32_4168 : BitVec 32 := 0#32
  ![v6671.toNat, v6676.toNat, 0]
def k0_off1765 (v6673 : BitVec 32) : Fin 2 → Nat :=
  let v6674 : BitVec 32 := v6673
  let c0_i32_4169 : BitVec 32 := 0#32
  ![v6674.toNat, 0]

def k0_chk437 (i : grid0.Coords) (v6673 : BitVec 32) : Prop :=
  (∀ (k0_h2 : k0_cond2 i = 1#1), 8 ∣ (k0_mult873 v6673).toNat) ∧
  (∀ (k0_h2 : k0_cond2 i = 1#1), ∀ a, (k0_off1765 v6673) a + S8x128.size a ≤ S131072x128.size a)
theorem k0_mult873_dvd : ∀ (i : grid0.Coords) (v6673 : BitVec 32) (k0_hw437 : k0_chk437 i v6673), ∀ (k0_h2 : k0_cond2 i = 1#1), 8 ∣ (k0_mult873 v6673).toNat := fun i v6673 k0_hw437 k0_h2 => k0_hw437.1 k0_h2
theorem k0_off1765_inb : ∀ (i : grid0.Coords) (v6673 : BitVec 32) (k0_hw437 : k0_chk437 i v6673), ∀ (k0_h2 : k0_cond2 i = 1#1), ∀ a, (k0_off1765 v6673) a + S8x128.size a ≤ S131072x128.size a := fun i v6673 k0_hw437 k0_h2 => k0_hw437.2 k0_h2

def k0_off1766 (i : grid0.Coords) : Fin 3 → Nat :=
  let c0_4175 : Index := 0#32
  let c0_4176 : Index := 0#32
  let arg1 : BitVec 32 := BitVec.ofNat 32 (i 1).val
  let c2_i32_4170 : BitVec 32 := 2#32
  let v6682 : BitVec 32 := Scalar.muli arg1 c2_i32_4170
  let c1_i32_4171 : BitVec 32 := 1#32
  let v6683 : BitVec 32 := Scalar.addi v6682 c1_i32_4171
  let c256_i32_4172 : BitVec 32 := 256#32
  let v6684 : BitVec 32 := Scalar.muli v6683 c256_i32_4172
  let c180_i32_4173 : BitVec 32 := 180#32
  let v6685 : BitVec 32 := Scalar.addi v6684 c180_i32_4173
  let v6687 : Index := Scalar.indexCast v6685
  ![0, 0, v6687.toNat]
def k0_mult875 (v6688 : BitVec 32) : BitVec 32 :=
  v6688

def k0_mult876 (i : grid0.Coords) : BitVec 32 :=
  let arg1 : BitVec 32 := BitVec.ofNat 32 (i 1).val
  let c2_i32_4170 : BitVec 32 := 2#32
  let v6682 : BitVec 32 := Scalar.muli arg1 c2_i32_4170
  let c1_i32_4171 : BitVec 32 := 1#32
  let v6683 : BitVec 32 := Scalar.addi v6682 c1_i32_4171
  let c256_i32_4172 : BitVec 32 := 256#32
  let v6684 : BitVec 32 := Scalar.muli v6683 c256_i32_4172
  let c180_i32_4173 : BitVec 32 := 180#32
  let v6685 : BitVec 32 := Scalar.addi v6684 c180_i32_4173
  let c8_i32_4177 : BitVec 32 := 8#32
  let v6690 : BitVec 32 := Scalar.muli v6685 c8_i32_4177
  v6690
def k0_off1767 (i : grid0.Coords) : Fin 1 → Nat :=
  let c1_i32_4174 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6686 : BitVec 32 := Scalar.subi c1_i32_4174 v9
  ![v6686.toNat]
def k0_off1768 (i : grid0.Coords) : Fin 3 → Nat :=
  let c1_i32_4174 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6686 : BitVec 32 := Scalar.subi c1_i32_4174 v9
  let arg1 : BitVec 32 := BitVec.ofNat 32 (i 1).val
  let c2_i32_4170 : BitVec 32 := 2#32
  let v6682 : BitVec 32 := Scalar.muli arg1 c2_i32_4170
  let c1_i32_4171 : BitVec 32 := 1#32
  let v6683 : BitVec 32 := Scalar.addi v6682 c1_i32_4171
  let c256_i32_4172 : BitVec 32 := 256#32
  let v6684 : BitVec 32 := Scalar.muli v6683 c256_i32_4172
  let c180_i32_4173 : BitVec 32 := 180#32
  let v6685 : BitVec 32 := Scalar.addi v6684 c180_i32_4173
  let c8_i32_4177 : BitVec 32 := 8#32
  let v6690 : BitVec 32 := Scalar.muli v6685 c8_i32_4177
  let v6691 : BitVec 32 := v6690
  let c0_i32_4178 : BitVec 32 := 0#32
  ![v6686.toNat, v6691.toNat, 0]
def k0_off1769 (v6688 : BitVec 32) : Fin 2 → Nat :=
  let v6689 : BitVec 32 := v6688
  let c0_i32_4179 : BitVec 32 := 0#32
  ![v6689.toNat, 0]

def k0_chk438 (i : grid0.Coords) (v6688 : BitVec 32) : Prop :=
  (∀ (k0_h2 : k0_cond2 i = 1#1), 8 ∣ (k0_mult875 v6688).toNat) ∧
  (∀ (k0_h2 : k0_cond2 i = 1#1), ∀ a, (k0_off1769 v6688) a + S8x128.size a ≤ S131072x128.size a)
theorem k0_mult875_dvd : ∀ (i : grid0.Coords) (v6688 : BitVec 32) (k0_hw438 : k0_chk438 i v6688), ∀ (k0_h2 : k0_cond2 i = 1#1), 8 ∣ (k0_mult875 v6688).toNat := fun i v6688 k0_hw438 k0_h2 => k0_hw438.1 k0_h2
theorem k0_off1769_inb : ∀ (i : grid0.Coords) (v6688 : BitVec 32) (k0_hw438 : k0_chk438 i v6688), ∀ (k0_h2 : k0_cond2 i = 1#1), ∀ a, (k0_off1769 v6688) a + S8x128.size a ≤ S131072x128.size a := fun i v6688 k0_hw438 k0_h2 => k0_hw438.2 k0_h2

def k0_off1770 (i : grid0.Coords) : Fin 3 → Nat :=
  let c0_4185 : Index := 0#32
  let c0_4186 : Index := 0#32
  let arg1 : BitVec 32 := BitVec.ofNat 32 (i 1).val
  let c2_i32_4180 : BitVec 32 := 2#32
  let v6697 : BitVec 32 := Scalar.muli arg1 c2_i32_4180
  let c1_i32_4181 : BitVec 32 := 1#32
  let v6698 : BitVec 32 := Scalar.addi v6697 c1_i32_4181
  let c256_i32_4182 : BitVec 32 := 256#32
  let v6699 : BitVec 32 := Scalar.muli v6698 c256_i32_4182
  let c181_i32_4183 : BitVec 32 := 181#32
  let v6700 : BitVec 32 := Scalar.addi v6699 c181_i32_4183
  let v6702 : Index := Scalar.indexCast v6700
  ![0, 0, v6702.toNat]
def k0_mult877 (v6703 : BitVec 32) : BitVec 32 :=
  v6703

def k0_mult878 (i : grid0.Coords) : BitVec 32 :=
  let arg1 : BitVec 32 := BitVec.ofNat 32 (i 1).val
  let c2_i32_4180 : BitVec 32 := 2#32
  let v6697 : BitVec 32 := Scalar.muli arg1 c2_i32_4180
  let c1_i32_4181 : BitVec 32 := 1#32
  let v6698 : BitVec 32 := Scalar.addi v6697 c1_i32_4181
  let c256_i32_4182 : BitVec 32 := 256#32
  let v6699 : BitVec 32 := Scalar.muli v6698 c256_i32_4182
  let c181_i32_4183 : BitVec 32 := 181#32
  let v6700 : BitVec 32 := Scalar.addi v6699 c181_i32_4183
  let c8_i32_4187 : BitVec 32 := 8#32
  let v6705 : BitVec 32 := Scalar.muli v6700 c8_i32_4187
  v6705
def k0_off1771 (i : grid0.Coords) : Fin 1 → Nat :=
  let c1_i32_4184 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6701 : BitVec 32 := Scalar.subi c1_i32_4184 v9
  ![v6701.toNat]
def k0_off1772 (i : grid0.Coords) : Fin 3 → Nat :=
  let c1_i32_4184 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6701 : BitVec 32 := Scalar.subi c1_i32_4184 v9
  let arg1 : BitVec 32 := BitVec.ofNat 32 (i 1).val
  let c2_i32_4180 : BitVec 32 := 2#32
  let v6697 : BitVec 32 := Scalar.muli arg1 c2_i32_4180
  let c1_i32_4181 : BitVec 32 := 1#32
  let v6698 : BitVec 32 := Scalar.addi v6697 c1_i32_4181
  let c256_i32_4182 : BitVec 32 := 256#32
  let v6699 : BitVec 32 := Scalar.muli v6698 c256_i32_4182
  let c181_i32_4183 : BitVec 32 := 181#32
  let v6700 : BitVec 32 := Scalar.addi v6699 c181_i32_4183
  let c8_i32_4187 : BitVec 32 := 8#32
  let v6705 : BitVec 32 := Scalar.muli v6700 c8_i32_4187
  let v6706 : BitVec 32 := v6705
  let c0_i32_4188 : BitVec 32 := 0#32
  ![v6701.toNat, v6706.toNat, 0]
def k0_off1773 (v6703 : BitVec 32) : Fin 2 → Nat :=
  let v6704 : BitVec 32 := v6703
  let c0_i32_4189 : BitVec 32 := 0#32
  ![v6704.toNat, 0]

def k0_chk439 (i : grid0.Coords) (v6703 : BitVec 32) : Prop :=
  (∀ (k0_h2 : k0_cond2 i = 1#1), 8 ∣ (k0_mult877 v6703).toNat) ∧
  (∀ (k0_h2 : k0_cond2 i = 1#1), ∀ a, (k0_off1773 v6703) a + S8x128.size a ≤ S131072x128.size a)
theorem k0_mult877_dvd : ∀ (i : grid0.Coords) (v6703 : BitVec 32) (k0_hw439 : k0_chk439 i v6703), ∀ (k0_h2 : k0_cond2 i = 1#1), 8 ∣ (k0_mult877 v6703).toNat := fun i v6703 k0_hw439 k0_h2 => k0_hw439.1 k0_h2
theorem k0_off1773_inb : ∀ (i : grid0.Coords) (v6703 : BitVec 32) (k0_hw439 : k0_chk439 i v6703), ∀ (k0_h2 : k0_cond2 i = 1#1), ∀ a, (k0_off1773 v6703) a + S8x128.size a ≤ S131072x128.size a := fun i v6703 k0_hw439 k0_h2 => k0_hw439.2 k0_h2

def k0_off1774 (i : grid0.Coords) : Fin 3 → Nat :=
  let c0_4195 : Index := 0#32
  let c0_4196 : Index := 0#32
  let arg1 : BitVec 32 := BitVec.ofNat 32 (i 1).val
  let c2_i32_4190 : BitVec 32 := 2#32
  let v6712 : BitVec 32 := Scalar.muli arg1 c2_i32_4190
  let c1_i32_4191 : BitVec 32 := 1#32
  let v6713 : BitVec 32 := Scalar.addi v6712 c1_i32_4191
  let c256_i32_4192 : BitVec 32 := 256#32
  let v6714 : BitVec 32 := Scalar.muli v6713 c256_i32_4192
  let c182_i32_4193 : BitVec 32 := 182#32
  let v6715 : BitVec 32 := Scalar.addi v6714 c182_i32_4193
  let v6717 : Index := Scalar.indexCast v6715
  ![0, 0, v6717.toNat]
def k0_mult879 (v6718 : BitVec 32) : BitVec 32 :=
  v6718

def k0_mult880 (i : grid0.Coords) : BitVec 32 :=
  let arg1 : BitVec 32 := BitVec.ofNat 32 (i 1).val
  let c2_i32_4190 : BitVec 32 := 2#32
  let v6712 : BitVec 32 := Scalar.muli arg1 c2_i32_4190
  let c1_i32_4191 : BitVec 32 := 1#32
  let v6713 : BitVec 32 := Scalar.addi v6712 c1_i32_4191
  let c256_i32_4192 : BitVec 32 := 256#32
  let v6714 : BitVec 32 := Scalar.muli v6713 c256_i32_4192
  let c182_i32_4193 : BitVec 32 := 182#32
  let v6715 : BitVec 32 := Scalar.addi v6714 c182_i32_4193
  let c8_i32_4197 : BitVec 32 := 8#32
  let v6720 : BitVec 32 := Scalar.muli v6715 c8_i32_4197
  v6720
def k0_off1775 (i : grid0.Coords) : Fin 1 → Nat :=
  let c1_i32_4194 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6716 : BitVec 32 := Scalar.subi c1_i32_4194 v9
  ![v6716.toNat]
def k0_off1776 (i : grid0.Coords) : Fin 3 → Nat :=
  let c1_i32_4194 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6716 : BitVec 32 := Scalar.subi c1_i32_4194 v9
  let arg1 : BitVec 32 := BitVec.ofNat 32 (i 1).val
  let c2_i32_4190 : BitVec 32 := 2#32
  let v6712 : BitVec 32 := Scalar.muli arg1 c2_i32_4190
  let c1_i32_4191 : BitVec 32 := 1#32
  let v6713 : BitVec 32 := Scalar.addi v6712 c1_i32_4191
  let c256_i32_4192 : BitVec 32 := 256#32
  let v6714 : BitVec 32 := Scalar.muli v6713 c256_i32_4192
  let c182_i32_4193 : BitVec 32 := 182#32
  let v6715 : BitVec 32 := Scalar.addi v6714 c182_i32_4193
  let c8_i32_4197 : BitVec 32 := 8#32
  let v6720 : BitVec 32 := Scalar.muli v6715 c8_i32_4197
  let v6721 : BitVec 32 := v6720
  let c0_i32_4198 : BitVec 32 := 0#32
  ![v6716.toNat, v6721.toNat, 0]
def k0_off1777 (v6718 : BitVec 32) : Fin 2 → Nat :=
  let v6719 : BitVec 32 := v6718
  let c0_i32_4199 : BitVec 32 := 0#32
  ![v6719.toNat, 0]

def k0_chk440 (i : grid0.Coords) (v6718 : BitVec 32) : Prop :=
  (∀ (k0_h2 : k0_cond2 i = 1#1), 8 ∣ (k0_mult879 v6718).toNat) ∧
  (∀ (k0_h2 : k0_cond2 i = 1#1), ∀ a, (k0_off1777 v6718) a + S8x128.size a ≤ S131072x128.size a)
theorem k0_mult879_dvd : ∀ (i : grid0.Coords) (v6718 : BitVec 32) (k0_hw440 : k0_chk440 i v6718), ∀ (k0_h2 : k0_cond2 i = 1#1), 8 ∣ (k0_mult879 v6718).toNat := fun i v6718 k0_hw440 k0_h2 => k0_hw440.1 k0_h2
theorem k0_off1777_inb : ∀ (i : grid0.Coords) (v6718 : BitVec 32) (k0_hw440 : k0_chk440 i v6718), ∀ (k0_h2 : k0_cond2 i = 1#1), ∀ a, (k0_off1777 v6718) a + S8x128.size a ≤ S131072x128.size a := fun i v6718 k0_hw440 k0_h2 => k0_hw440.2 k0_h2

def k0_off1778 (i : grid0.Coords) : Fin 3 → Nat :=
  let c0_4205 : Index := 0#32
  let c0_4206 : Index := 0#32
  let arg1 : BitVec 32 := BitVec.ofNat 32 (i 1).val
  let c2_i32_4200 : BitVec 32 := 2#32
  let v6727 : BitVec 32 := Scalar.muli arg1 c2_i32_4200
  let c1_i32_4201 : BitVec 32 := 1#32
  let v6728 : BitVec 32 := Scalar.addi v6727 c1_i32_4201
  let c256_i32_4202 : BitVec 32 := 256#32
  let v6729 : BitVec 32 := Scalar.muli v6728 c256_i32_4202
  let c183_i32_4203 : BitVec 32 := 183#32
  let v6730 : BitVec 32 := Scalar.addi v6729 c183_i32_4203
  let v6732 : Index := Scalar.indexCast v6730
  ![0, 0, v6732.toNat]
def k0_mult881 (v6733 : BitVec 32) : BitVec 32 :=
  v6733

def k0_mult882 (i : grid0.Coords) : BitVec 32 :=
  let arg1 : BitVec 32 := BitVec.ofNat 32 (i 1).val
  let c2_i32_4200 : BitVec 32 := 2#32
  let v6727 : BitVec 32 := Scalar.muli arg1 c2_i32_4200
  let c1_i32_4201 : BitVec 32 := 1#32
  let v6728 : BitVec 32 := Scalar.addi v6727 c1_i32_4201
  let c256_i32_4202 : BitVec 32 := 256#32
  let v6729 : BitVec 32 := Scalar.muli v6728 c256_i32_4202
  let c183_i32_4203 : BitVec 32 := 183#32
  let v6730 : BitVec 32 := Scalar.addi v6729 c183_i32_4203
  let c8_i32_4207 : BitVec 32 := 8#32
  let v6735 : BitVec 32 := Scalar.muli v6730 c8_i32_4207
  v6735
def k0_off1779 (i : grid0.Coords) : Fin 1 → Nat :=
  let c1_i32_4204 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6731 : BitVec 32 := Scalar.subi c1_i32_4204 v9
  ![v6731.toNat]
def k0_off1780 (i : grid0.Coords) : Fin 3 → Nat :=
  let c1_i32_4204 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6731 : BitVec 32 := Scalar.subi c1_i32_4204 v9
  let arg1 : BitVec 32 := BitVec.ofNat 32 (i 1).val
  let c2_i32_4200 : BitVec 32 := 2#32
  let v6727 : BitVec 32 := Scalar.muli arg1 c2_i32_4200
  let c1_i32_4201 : BitVec 32 := 1#32
  let v6728 : BitVec 32 := Scalar.addi v6727 c1_i32_4201
  let c256_i32_4202 : BitVec 32 := 256#32
  let v6729 : BitVec 32 := Scalar.muli v6728 c256_i32_4202
  let c183_i32_4203 : BitVec 32 := 183#32
  let v6730 : BitVec 32 := Scalar.addi v6729 c183_i32_4203
  let c8_i32_4207 : BitVec 32 := 8#32
  let v6735 : BitVec 32 := Scalar.muli v6730 c8_i32_4207
  let v6736 : BitVec 32 := v6735
  let c0_i32_4208 : BitVec 32 := 0#32
  ![v6731.toNat, v6736.toNat, 0]
def k0_off1781 (v6733 : BitVec 32) : Fin 2 → Nat :=
  let v6734 : BitVec 32 := v6733
  let c0_i32_4209 : BitVec 32 := 0#32
  ![v6734.toNat, 0]

def k0_chk441 (i : grid0.Coords) (v6733 : BitVec 32) : Prop :=
  (∀ (k0_h2 : k0_cond2 i = 1#1), 8 ∣ (k0_mult881 v6733).toNat) ∧
  (∀ (k0_h2 : k0_cond2 i = 1#1), ∀ a, (k0_off1781 v6733) a + S8x128.size a ≤ S131072x128.size a)
theorem k0_mult881_dvd : ∀ (i : grid0.Coords) (v6733 : BitVec 32) (k0_hw441 : k0_chk441 i v6733), ∀ (k0_h2 : k0_cond2 i = 1#1), 8 ∣ (k0_mult881 v6733).toNat := fun i v6733 k0_hw441 k0_h2 => k0_hw441.1 k0_h2
theorem k0_off1781_inb : ∀ (i : grid0.Coords) (v6733 : BitVec 32) (k0_hw441 : k0_chk441 i v6733), ∀ (k0_h2 : k0_cond2 i = 1#1), ∀ a, (k0_off1781 v6733) a + S8x128.size a ≤ S131072x128.size a := fun i v6733 k0_hw441 k0_h2 => k0_hw441.2 k0_h2

def k0_off1782 (i : grid0.Coords) : Fin 3 → Nat :=
  let c0_4215 : Index := 0#32
  let c0_4216 : Index := 0#32
  let arg1 : BitVec 32 := BitVec.ofNat 32 (i 1).val
  let c2_i32_4210 : BitVec 32 := 2#32
  let v6742 : BitVec 32 := Scalar.muli arg1 c2_i32_4210
  let c1_i32_4211 : BitVec 32 := 1#32
  let v6743 : BitVec 32 := Scalar.addi v6742 c1_i32_4211
  let c256_i32_4212 : BitVec 32 := 256#32
  let v6744 : BitVec 32 := Scalar.muli v6743 c256_i32_4212
  let c184_i32_4213 : BitVec 32 := 184#32
  let v6745 : BitVec 32 := Scalar.addi v6744 c184_i32_4213
  let v6747 : Index := Scalar.indexCast v6745
  ![0, 0, v6747.toNat]
def k0_mult883 (v6748 : BitVec 32) : BitVec 32 :=
  v6748

def k0_mult884 (i : grid0.Coords) : BitVec 32 :=
  let arg1 : BitVec 32 := BitVec.ofNat 32 (i 1).val
  let c2_i32_4210 : BitVec 32 := 2#32
  let v6742 : BitVec 32 := Scalar.muli arg1 c2_i32_4210
  let c1_i32_4211 : BitVec 32 := 1#32
  let v6743 : BitVec 32 := Scalar.addi v6742 c1_i32_4211
  let c256_i32_4212 : BitVec 32 := 256#32
  let v6744 : BitVec 32 := Scalar.muli v6743 c256_i32_4212
  let c184_i32_4213 : BitVec 32 := 184#32
  let v6745 : BitVec 32 := Scalar.addi v6744 c184_i32_4213
  let c8_i32_4217 : BitVec 32 := 8#32
  let v6750 : BitVec 32 := Scalar.muli v6745 c8_i32_4217
  v6750
def k0_off1783 (i : grid0.Coords) : Fin 1 → Nat :=
  let c1_i32_4214 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6746 : BitVec 32 := Scalar.subi c1_i32_4214 v9
  ![v6746.toNat]
def k0_off1784 (i : grid0.Coords) : Fin 3 → Nat :=
  let c1_i32_4214 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6746 : BitVec 32 := Scalar.subi c1_i32_4214 v9
  let arg1 : BitVec 32 := BitVec.ofNat 32 (i 1).val
  let c2_i32_4210 : BitVec 32 := 2#32
  let v6742 : BitVec 32 := Scalar.muli arg1 c2_i32_4210
  let c1_i32_4211 : BitVec 32 := 1#32
  let v6743 : BitVec 32 := Scalar.addi v6742 c1_i32_4211
  let c256_i32_4212 : BitVec 32 := 256#32
  let v6744 : BitVec 32 := Scalar.muli v6743 c256_i32_4212
  let c184_i32_4213 : BitVec 32 := 184#32
  let v6745 : BitVec 32 := Scalar.addi v6744 c184_i32_4213
  let c8_i32_4217 : BitVec 32 := 8#32
  let v6750 : BitVec 32 := Scalar.muli v6745 c8_i32_4217
  let v6751 : BitVec 32 := v6750
  let c0_i32_4218 : BitVec 32 := 0#32
  ![v6746.toNat, v6751.toNat, 0]
def k0_off1785 (v6748 : BitVec 32) : Fin 2 → Nat :=
  let v6749 : BitVec 32 := v6748
  let c0_i32_4219 : BitVec 32 := 0#32
  ![v6749.toNat, 0]

def k0_chk442 (i : grid0.Coords) (v6748 : BitVec 32) : Prop :=
  (∀ (k0_h2 : k0_cond2 i = 1#1), 8 ∣ (k0_mult883 v6748).toNat) ∧
  (∀ (k0_h2 : k0_cond2 i = 1#1), ∀ a, (k0_off1785 v6748) a + S8x128.size a ≤ S131072x128.size a)
theorem k0_mult883_dvd : ∀ (i : grid0.Coords) (v6748 : BitVec 32) (k0_hw442 : k0_chk442 i v6748), ∀ (k0_h2 : k0_cond2 i = 1#1), 8 ∣ (k0_mult883 v6748).toNat := fun i v6748 k0_hw442 k0_h2 => k0_hw442.1 k0_h2
theorem k0_off1785_inb : ∀ (i : grid0.Coords) (v6748 : BitVec 32) (k0_hw442 : k0_chk442 i v6748), ∀ (k0_h2 : k0_cond2 i = 1#1), ∀ a, (k0_off1785 v6748) a + S8x128.size a ≤ S131072x128.size a := fun i v6748 k0_hw442 k0_h2 => k0_hw442.2 k0_h2

def k0_off1786 (i : grid0.Coords) : Fin 3 → Nat :=
  let c0_4225 : Index := 0#32
  let c0_4226 : Index := 0#32
  let arg1 : BitVec 32 := BitVec.ofNat 32 (i 1).val
  let c2_i32_4220 : BitVec 32 := 2#32
  let v6757 : BitVec 32 := Scalar.muli arg1 c2_i32_4220
  let c1_i32_4221 : BitVec 32 := 1#32
  let v6758 : BitVec 32 := Scalar.addi v6757 c1_i32_4221
  let c256_i32_4222 : BitVec 32 := 256#32
  let v6759 : BitVec 32 := Scalar.muli v6758 c256_i32_4222
  let c185_i32_4223 : BitVec 32 := 185#32
  let v6760 : BitVec 32 := Scalar.addi v6759 c185_i32_4223
  let v6762 : Index := Scalar.indexCast v6760
  ![0, 0, v6762.toNat]
def k0_mult885 (v6763 : BitVec 32) : BitVec 32 :=
  v6763

def k0_mult886 (i : grid0.Coords) : BitVec 32 :=
  let arg1 : BitVec 32 := BitVec.ofNat 32 (i 1).val
  let c2_i32_4220 : BitVec 32 := 2#32
  let v6757 : BitVec 32 := Scalar.muli arg1 c2_i32_4220
  let c1_i32_4221 : BitVec 32 := 1#32
  let v6758 : BitVec 32 := Scalar.addi v6757 c1_i32_4221
  let c256_i32_4222 : BitVec 32 := 256#32
  let v6759 : BitVec 32 := Scalar.muli v6758 c256_i32_4222
  let c185_i32_4223 : BitVec 32 := 185#32
  let v6760 : BitVec 32 := Scalar.addi v6759 c185_i32_4223
  let c8_i32_4227 : BitVec 32 := 8#32
  let v6765 : BitVec 32 := Scalar.muli v6760 c8_i32_4227
  v6765
def k0_off1787 (i : grid0.Coords) : Fin 1 → Nat :=
  let c1_i32_4224 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6761 : BitVec 32 := Scalar.subi c1_i32_4224 v9
  ![v6761.toNat]
def k0_off1788 (i : grid0.Coords) : Fin 3 → Nat :=
  let c1_i32_4224 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6761 : BitVec 32 := Scalar.subi c1_i32_4224 v9
  let arg1 : BitVec 32 := BitVec.ofNat 32 (i 1).val
  let c2_i32_4220 : BitVec 32 := 2#32
  let v6757 : BitVec 32 := Scalar.muli arg1 c2_i32_4220
  let c1_i32_4221 : BitVec 32 := 1#32
  let v6758 : BitVec 32 := Scalar.addi v6757 c1_i32_4221
  let c256_i32_4222 : BitVec 32 := 256#32
  let v6759 : BitVec 32 := Scalar.muli v6758 c256_i32_4222
  let c185_i32_4223 : BitVec 32 := 185#32
  let v6760 : BitVec 32 := Scalar.addi v6759 c185_i32_4223
  let c8_i32_4227 : BitVec 32 := 8#32
  let v6765 : BitVec 32 := Scalar.muli v6760 c8_i32_4227
  let v6766 : BitVec 32 := v6765
  let c0_i32_4228 : BitVec 32 := 0#32
  ![v6761.toNat, v6766.toNat, 0]
def k0_off1789 (v6763 : BitVec 32) : Fin 2 → Nat :=
  let v6764 : BitVec 32 := v6763
  let c0_i32_4229 : BitVec 32 := 0#32
  ![v6764.toNat, 0]

def k0_chk443 (i : grid0.Coords) (v6763 : BitVec 32) : Prop :=
  (∀ (k0_h2 : k0_cond2 i = 1#1), 8 ∣ (k0_mult885 v6763).toNat) ∧
  (∀ (k0_h2 : k0_cond2 i = 1#1), ∀ a, (k0_off1789 v6763) a + S8x128.size a ≤ S131072x128.size a)
theorem k0_mult885_dvd : ∀ (i : grid0.Coords) (v6763 : BitVec 32) (k0_hw443 : k0_chk443 i v6763), ∀ (k0_h2 : k0_cond2 i = 1#1), 8 ∣ (k0_mult885 v6763).toNat := fun i v6763 k0_hw443 k0_h2 => k0_hw443.1 k0_h2
theorem k0_off1789_inb : ∀ (i : grid0.Coords) (v6763 : BitVec 32) (k0_hw443 : k0_chk443 i v6763), ∀ (k0_h2 : k0_cond2 i = 1#1), ∀ a, (k0_off1789 v6763) a + S8x128.size a ≤ S131072x128.size a := fun i v6763 k0_hw443 k0_h2 => k0_hw443.2 k0_h2

def k0_off1790 (i : grid0.Coords) : Fin 3 → Nat :=
  let c0_4235 : Index := 0#32
  let c0_4236 : Index := 0#32
  let arg1 : BitVec 32 := BitVec.ofNat 32 (i 1).val
  let c2_i32_4230 : BitVec 32 := 2#32
  let v6772 : BitVec 32 := Scalar.muli arg1 c2_i32_4230
  let c1_i32_4231 : BitVec 32 := 1#32
  let v6773 : BitVec 32 := Scalar.addi v6772 c1_i32_4231
  let c256_i32_4232 : BitVec 32 := 256#32
  let v6774 : BitVec 32 := Scalar.muli v6773 c256_i32_4232
  let c186_i32_4233 : BitVec 32 := 186#32
  let v6775 : BitVec 32 := Scalar.addi v6774 c186_i32_4233
  let v6777 : Index := Scalar.indexCast v6775
  ![0, 0, v6777.toNat]
def k0_mult887 (v6778 : BitVec 32) : BitVec 32 :=
  v6778

def k0_mult888 (i : grid0.Coords) : BitVec 32 :=
  let arg1 : BitVec 32 := BitVec.ofNat 32 (i 1).val
  let c2_i32_4230 : BitVec 32 := 2#32
  let v6772 : BitVec 32 := Scalar.muli arg1 c2_i32_4230
  let c1_i32_4231 : BitVec 32 := 1#32
  let v6773 : BitVec 32 := Scalar.addi v6772 c1_i32_4231
  let c256_i32_4232 : BitVec 32 := 256#32
  let v6774 : BitVec 32 := Scalar.muli v6773 c256_i32_4232
  let c186_i32_4233 : BitVec 32 := 186#32
  let v6775 : BitVec 32 := Scalar.addi v6774 c186_i32_4233
  let c8_i32_4237 : BitVec 32 := 8#32
  let v6780 : BitVec 32 := Scalar.muli v6775 c8_i32_4237
  v6780
def k0_off1791 (i : grid0.Coords) : Fin 1 → Nat :=
  let c1_i32_4234 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6776 : BitVec 32 := Scalar.subi c1_i32_4234 v9
  ![v6776.toNat]
def k0_off1792 (i : grid0.Coords) : Fin 3 → Nat :=
  let c1_i32_4234 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6776 : BitVec 32 := Scalar.subi c1_i32_4234 v9
  let arg1 : BitVec 32 := BitVec.ofNat 32 (i 1).val
  let c2_i32_4230 : BitVec 32 := 2#32
  let v6772 : BitVec 32 := Scalar.muli arg1 c2_i32_4230
  let c1_i32_4231 : BitVec 32 := 1#32
  let v6773 : BitVec 32 := Scalar.addi v6772 c1_i32_4231
  let c256_i32_4232 : BitVec 32 := 256#32
  let v6774 : BitVec 32 := Scalar.muli v6773 c256_i32_4232
  let c186_i32_4233 : BitVec 32 := 186#32
  let v6775 : BitVec 32 := Scalar.addi v6774 c186_i32_4233
  let c8_i32_4237 : BitVec 32 := 8#32
  let v6780 : BitVec 32 := Scalar.muli v6775 c8_i32_4237
  let v6781 : BitVec 32 := v6780
  let c0_i32_4238 : BitVec 32 := 0#32
  ![v6776.toNat, v6781.toNat, 0]
def k0_off1793 (v6778 : BitVec 32) : Fin 2 → Nat :=
  let v6779 : BitVec 32 := v6778
  let c0_i32_4239 : BitVec 32 := 0#32
  ![v6779.toNat, 0]

def k0_chk444 (i : grid0.Coords) (v6778 : BitVec 32) : Prop :=
  (∀ (k0_h2 : k0_cond2 i = 1#1), 8 ∣ (k0_mult887 v6778).toNat) ∧
  (∀ (k0_h2 : k0_cond2 i = 1#1), ∀ a, (k0_off1793 v6778) a + S8x128.size a ≤ S131072x128.size a)
theorem k0_mult887_dvd : ∀ (i : grid0.Coords) (v6778 : BitVec 32) (k0_hw444 : k0_chk444 i v6778), ∀ (k0_h2 : k0_cond2 i = 1#1), 8 ∣ (k0_mult887 v6778).toNat := fun i v6778 k0_hw444 k0_h2 => k0_hw444.1 k0_h2
theorem k0_off1793_inb : ∀ (i : grid0.Coords) (v6778 : BitVec 32) (k0_hw444 : k0_chk444 i v6778), ∀ (k0_h2 : k0_cond2 i = 1#1), ∀ a, (k0_off1793 v6778) a + S8x128.size a ≤ S131072x128.size a := fun i v6778 k0_hw444 k0_h2 => k0_hw444.2 k0_h2

def k0_off1794 (i : grid0.Coords) : Fin 3 → Nat :=
  let c0_4245 : Index := 0#32
  let c0_4246 : Index := 0#32
  let arg1 : BitVec 32 := BitVec.ofNat 32 (i 1).val
  let c2_i32_4240 : BitVec 32 := 2#32
  let v6787 : BitVec 32 := Scalar.muli arg1 c2_i32_4240
  let c1_i32_4241 : BitVec 32 := 1#32
  let v6788 : BitVec 32 := Scalar.addi v6787 c1_i32_4241
  let c256_i32_4242 : BitVec 32 := 256#32
  let v6789 : BitVec 32 := Scalar.muli v6788 c256_i32_4242
  let c187_i32_4243 : BitVec 32 := 187#32
  let v6790 : BitVec 32 := Scalar.addi v6789 c187_i32_4243
  let v6792 : Index := Scalar.indexCast v6790
  ![0, 0, v6792.toNat]
def k0_mult889 (v6793 : BitVec 32) : BitVec 32 :=
  v6793

def k0_mult890 (i : grid0.Coords) : BitVec 32 :=
  let arg1 : BitVec 32 := BitVec.ofNat 32 (i 1).val
  let c2_i32_4240 : BitVec 32 := 2#32
  let v6787 : BitVec 32 := Scalar.muli arg1 c2_i32_4240
  let c1_i32_4241 : BitVec 32 := 1#32
  let v6788 : BitVec 32 := Scalar.addi v6787 c1_i32_4241
  let c256_i32_4242 : BitVec 32 := 256#32
  let v6789 : BitVec 32 := Scalar.muli v6788 c256_i32_4242
  let c187_i32_4243 : BitVec 32 := 187#32
  let v6790 : BitVec 32 := Scalar.addi v6789 c187_i32_4243
  let c8_i32_4247 : BitVec 32 := 8#32
  let v6795 : BitVec 32 := Scalar.muli v6790 c8_i32_4247
  v6795
def k0_off1795 (i : grid0.Coords) : Fin 1 → Nat :=
  let c1_i32_4244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6791 : BitVec 32 := Scalar.subi c1_i32_4244 v9
  ![v6791.toNat]
def k0_off1796 (i : grid0.Coords) : Fin 3 → Nat :=
  let c1_i32_4244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6791 : BitVec 32 := Scalar.subi c1_i32_4244 v9
  let arg1 : BitVec 32 := BitVec.ofNat 32 (i 1).val
  let c2_i32_4240 : BitVec 32 := 2#32
  let v6787 : BitVec 32 := Scalar.muli arg1 c2_i32_4240
  let c1_i32_4241 : BitVec 32 := 1#32
  let v6788 : BitVec 32 := Scalar.addi v6787 c1_i32_4241
  let c256_i32_4242 : BitVec 32 := 256#32
  let v6789 : BitVec 32 := Scalar.muli v6788 c256_i32_4242
  let c187_i32_4243 : BitVec 32 := 187#32
  let v6790 : BitVec 32 := Scalar.addi v6789 c187_i32_4243
  let c8_i32_4247 : BitVec 32 := 8#32
  let v6795 : BitVec 32 := Scalar.muli v6790 c8_i32_4247
  let v6796 : BitVec 32 := v6795
  let c0_i32_4248 : BitVec 32 := 0#32
  ![v6791.toNat, v6796.toNat, 0]
def k0_off1797 (v6793 : BitVec 32) : Fin 2 → Nat :=
  let v6794 : BitVec 32 := v6793
  let c0_i32_4249 : BitVec 32 := 0#32
  ![v6794.toNat, 0]

def k0_chk445 (i : grid0.Coords) (v6793 : BitVec 32) : Prop :=
  (∀ (k0_h2 : k0_cond2 i = 1#1), 8 ∣ (k0_mult889 v6793).toNat) ∧
  (∀ (k0_h2 : k0_cond2 i = 1#1), ∀ a, (k0_off1797 v6793) a + S8x128.size a ≤ S131072x128.size a)
theorem k0_mult889_dvd : ∀ (i : grid0.Coords) (v6793 : BitVec 32) (k0_hw445 : k0_chk445 i v6793), ∀ (k0_h2 : k0_cond2 i = 1#1), 8 ∣ (k0_mult889 v6793).toNat := fun i v6793 k0_hw445 k0_h2 => k0_hw445.1 k0_h2
theorem k0_off1797_inb : ∀ (i : grid0.Coords) (v6793 : BitVec 32) (k0_hw445 : k0_chk445 i v6793), ∀ (k0_h2 : k0_cond2 i = 1#1), ∀ a, (k0_off1797 v6793) a + S8x128.size a ≤ S131072x128.size a := fun i v6793 k0_hw445 k0_h2 => k0_hw445.2 k0_h2

def k0_off1798 (i : grid0.Coords) : Fin 3 → Nat :=
  let c0_4255 : Index := 0#32
  let c0_4256 : Index := 0#32
  let arg1 : BitVec 32 := BitVec.ofNat 32 (i 1).val
  let c2_i32_4250 : BitVec 32 := 2#32
  let v6802 : BitVec 32 := Scalar.muli arg1 c2_i32_4250
  let c1_i32_4251 : BitVec 32 := 1#32
  let v6803 : BitVec 32 := Scalar.addi v6802 c1_i32_4251
  let c256_i32_4252 : BitVec 32 := 256#32
  let v6804 : BitVec 32 := Scalar.muli v6803 c256_i32_4252
  let c188_i32_4253 : BitVec 32 := 188#32
  let v6805 : BitVec 32 := Scalar.addi v6804 c188_i32_4253
  let v6807 : Index := Scalar.indexCast v6805
  ![0, 0, v6807.toNat]
def k0_mult891 (v6808 : BitVec 32) : BitVec 32 :=
  v6808

def k0_mult892 (i : grid0.Coords) : BitVec 32 :=
  let arg1 : BitVec 32 := BitVec.ofNat 32 (i 1).val
  let c2_i32_4250 : BitVec 32 := 2#32
  let v6802 : BitVec 32 := Scalar.muli arg1 c2_i32_4250
  let c1_i32_4251 : BitVec 32 := 1#32
  let v6803 : BitVec 32 := Scalar.addi v6802 c1_i32_4251
  let c256_i32_4252 : BitVec 32 := 256#32
  let v6804 : BitVec 32 := Scalar.muli v6803 c256_i32_4252
  let c188_i32_4253 : BitVec 32 := 188#32
  let v6805 : BitVec 32 := Scalar.addi v6804 c188_i32_4253
  let c8_i32_4257 : BitVec 32 := 8#32
  let v6810 : BitVec 32 := Scalar.muli v6805 c8_i32_4257
  v6810
def k0_off1799 (i : grid0.Coords) : Fin 1 → Nat :=
  let c1_i32_4254 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6806 : BitVec 32 := Scalar.subi c1_i32_4254 v9
  ![v6806.toNat]
def k0_off1800 (i : grid0.Coords) : Fin 3 → Nat :=
  let c1_i32_4254 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6806 : BitVec 32 := Scalar.subi c1_i32_4254 v9
  let arg1 : BitVec 32 := BitVec.ofNat 32 (i 1).val
  let c2_i32_4250 : BitVec 32 := 2#32
  let v6802 : BitVec 32 := Scalar.muli arg1 c2_i32_4250
  let c1_i32_4251 : BitVec 32 := 1#32
  let v6803 : BitVec 32 := Scalar.addi v6802 c1_i32_4251
  let c256_i32_4252 : BitVec 32 := 256#32
  let v6804 : BitVec 32 := Scalar.muli v6803 c256_i32_4252
  let c188_i32_4253 : BitVec 32 := 188#32
  let v6805 : BitVec 32 := Scalar.addi v6804 c188_i32_4253
  let c8_i32_4257 : BitVec 32 := 8#32
  let v6810 : BitVec 32 := Scalar.muli v6805 c8_i32_4257
  let v6811 : BitVec 32 := v6810
  let c0_i32_4258 : BitVec 32 := 0#32
  ![v6806.toNat, v6811.toNat, 0]
def k0_off1801 (v6808 : BitVec 32) : Fin 2 → Nat :=
  let v6809 : BitVec 32 := v6808
  let c0_i32_4259 : BitVec 32 := 0#32
  ![v6809.toNat, 0]

def k0_chk446 (i : grid0.Coords) (v6808 : BitVec 32) : Prop :=
  (∀ (k0_h2 : k0_cond2 i = 1#1), 8 ∣ (k0_mult891 v6808).toNat) ∧
  (∀ (k0_h2 : k0_cond2 i = 1#1), ∀ a, (k0_off1801 v6808) a + S8x128.size a ≤ S131072x128.size a)
theorem k0_mult891_dvd : ∀ (i : grid0.Coords) (v6808 : BitVec 32) (k0_hw446 : k0_chk446 i v6808), ∀ (k0_h2 : k0_cond2 i = 1#1), 8 ∣ (k0_mult891 v6808).toNat := fun i v6808 k0_hw446 k0_h2 => k0_hw446.1 k0_h2
theorem k0_off1801_inb : ∀ (i : grid0.Coords) (v6808 : BitVec 32) (k0_hw446 : k0_chk446 i v6808), ∀ (k0_h2 : k0_cond2 i = 1#1), ∀ a, (k0_off1801 v6808) a + S8x128.size a ≤ S131072x128.size a := fun i v6808 k0_hw446 k0_h2 => k0_hw446.2 k0_h2

def k0_off1802 (i : grid0.Coords) : Fin 3 → Nat :=
  let c0_4265 : Index := 0#32
  let c0_4266 : Index := 0#32
  let arg1 : BitVec 32 := BitVec.ofNat 32 (i 1).val
  let c2_i32_4260 : BitVec 32 := 2#32
  let v6817 : BitVec 32 := Scalar.muli arg1 c2_i32_4260
  let c1_i32_4261 : BitVec 32 := 1#32
  let v6818 : BitVec 32 := Scalar.addi v6817 c1_i32_4261
  let c256_i32_4262 : BitVec 32 := 256#32
  let v6819 : BitVec 32 := Scalar.muli v6818 c256_i32_4262
  let c189_i32_4263 : BitVec 32 := 189#32
  let v6820 : BitVec 32 := Scalar.addi v6819 c189_i32_4263
  let v6822 : Index := Scalar.indexCast v6820
  ![0, 0, v6822.toNat]
def k0_mult893 (v6823 : BitVec 32) : BitVec 32 :=
  v6823

def k0_mult894 (i : grid0.Coords) : BitVec 32 :=
  let arg1 : BitVec 32 := BitVec.ofNat 32 (i 1).val
  let c2_i32_4260 : BitVec 32 := 2#32
  let v6817 : BitVec 32 := Scalar.muli arg1 c2_i32_4260
  let c1_i32_4261 : BitVec 32 := 1#32
  let v6818 : BitVec 32 := Scalar.addi v6817 c1_i32_4261
  let c256_i32_4262 : BitVec 32 := 256#32
  let v6819 : BitVec 32 := Scalar.muli v6818 c256_i32_4262
  let c189_i32_4263 : BitVec 32 := 189#32
  let v6820 : BitVec 32 := Scalar.addi v6819 c189_i32_4263
  let c8_i32_4267 : BitVec 32 := 8#32
  let v6825 : BitVec 32 := Scalar.muli v6820 c8_i32_4267
  v6825
def k0_off1803 (i : grid0.Coords) : Fin 1 → Nat :=
  let c1_i32_4264 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6821 : BitVec 32 := Scalar.subi c1_i32_4264 v9
  ![v6821.toNat]
def k0_off1804 (i : grid0.Coords) : Fin 3 → Nat :=
  let c1_i32_4264 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6821 : BitVec 32 := Scalar.subi c1_i32_4264 v9
  let arg1 : BitVec 32 := BitVec.ofNat 32 (i 1).val
  let c2_i32_4260 : BitVec 32 := 2#32
  let v6817 : BitVec 32 := Scalar.muli arg1 c2_i32_4260
  let c1_i32_4261 : BitVec 32 := 1#32
  let v6818 : BitVec 32 := Scalar.addi v6817 c1_i32_4261
  let c256_i32_4262 : BitVec 32 := 256#32
  let v6819 : BitVec 32 := Scalar.muli v6818 c256_i32_4262
  let c189_i32_4263 : BitVec 32 := 189#32
  let v6820 : BitVec 32 := Scalar.addi v6819 c189_i32_4263
  let c8_i32_4267 : BitVec 32 := 8#32
  let v6825 : BitVec 32 := Scalar.muli v6820 c8_i32_4267
  let v6826 : BitVec 32 := v6825
  let c0_i32_4268 : BitVec 32 := 0#32
  ![v6821.toNat, v6826.toNat, 0]
def k0_off1805 (v6823 : BitVec 32) : Fin 2 → Nat :=
  let v6824 : BitVec 32 := v6823
  let c0_i32_4269 : BitVec 32 := 0#32
  ![v6824.toNat, 0]

def k0_chk447 (i : grid0.Coords) (v6823 : BitVec 32) : Prop :=
  (∀ (k0_h2 : k0_cond2 i = 1#1), 8 ∣ (k0_mult893 v6823).toNat) ∧
  (∀ (k0_h2 : k0_cond2 i = 1#1), ∀ a, (k0_off1805 v6823) a + S8x128.size a ≤ S131072x128.size a)
theorem k0_mult893_dvd : ∀ (i : grid0.Coords) (v6823 : BitVec 32) (k0_hw447 : k0_chk447 i v6823), ∀ (k0_h2 : k0_cond2 i = 1#1), 8 ∣ (k0_mult893 v6823).toNat := fun i v6823 k0_hw447 k0_h2 => k0_hw447.1 k0_h2
theorem k0_off1805_inb : ∀ (i : grid0.Coords) (v6823 : BitVec 32) (k0_hw447 : k0_chk447 i v6823), ∀ (k0_h2 : k0_cond2 i = 1#1), ∀ a, (k0_off1805 v6823) a + S8x128.size a ≤ S131072x128.size a := fun i v6823 k0_hw447 k0_h2 => k0_hw447.2 k0_h2

def k0_off1806 (i : grid0.Coords) : Fin 3 → Nat :=
  let c0_4275 : Index := 0#32
  let c0_4276 : Index := 0#32
  let arg1 : BitVec 32 := BitVec.ofNat 32 (i 1).val
  let c2_i32_4270 : BitVec 32 := 2#32
  let v6832 : BitVec 32 := Scalar.muli arg1 c2_i32_4270
  let c1_i32_4271 : BitVec 32 := 1#32
  let v6833 : BitVec 32 := Scalar.addi v6832 c1_i32_4271
  let c256_i32_4272 : BitVec 32 := 256#32
  let v6834 : BitVec 32 := Scalar.muli v6833 c256_i32_4272
  let c190_i32_4273 : BitVec 32 := 190#32
  let v6835 : BitVec 32 := Scalar.addi v6834 c190_i32_4273
  let v6837 : Index := Scalar.indexCast v6835
  ![0, 0, v6837.toNat]
def k0_mult895 (v6838 : BitVec 32) : BitVec 32 :=
  v6838

def k0_mult896 (i : grid0.Coords) : BitVec 32 :=
  let arg1 : BitVec 32 := BitVec.ofNat 32 (i 1).val
  let c2_i32_4270 : BitVec 32 := 2#32
  let v6832 : BitVec 32 := Scalar.muli arg1 c2_i32_4270
  let c1_i32_4271 : BitVec 32 := 1#32
  let v6833 : BitVec 32 := Scalar.addi v6832 c1_i32_4271
  let c256_i32_4272 : BitVec 32 := 256#32
  let v6834 : BitVec 32 := Scalar.muli v6833 c256_i32_4272
  let c190_i32_4273 : BitVec 32 := 190#32
  let v6835 : BitVec 32 := Scalar.addi v6834 c190_i32_4273
  let c8_i32_4277 : BitVec 32 := 8#32
  let v6840 : BitVec 32 := Scalar.muli v6835 c8_i32_4277
  v6840
def k0_off1807 (i : grid0.Coords) : Fin 1 → Nat :=
  let c1_i32_4274 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6836 : BitVec 32 := Scalar.subi c1_i32_4274 v9
  ![v6836.toNat]
def k0_off1808 (i : grid0.Coords) : Fin 3 → Nat :=
  let c1_i32_4274 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6836 : BitVec 32 := Scalar.subi c1_i32_4274 v9
  let arg1 : BitVec 32 := BitVec.ofNat 32 (i 1).val
  let c2_i32_4270 : BitVec 32 := 2#32
  let v6832 : BitVec 32 := Scalar.muli arg1 c2_i32_4270
  let c1_i32_4271 : BitVec 32 := 1#32
  let v6833 : BitVec 32 := Scalar.addi v6832 c1_i32_4271
  let c256_i32_4272 : BitVec 32 := 256#32
  let v6834 : BitVec 32 := Scalar.muli v6833 c256_i32_4272
  let c190_i32_4273 : BitVec 32 := 190#32
  let v6835 : BitVec 32 := Scalar.addi v6834 c190_i32_4273
  let c8_i32_4277 : BitVec 32 := 8#32
  let v6840 : BitVec 32 := Scalar.muli v6835 c8_i32_4277
  let v6841 : BitVec 32 := v6840
  let c0_i32_4278 : BitVec 32 := 0#32
  ![v6836.toNat, v6841.toNat, 0]
def k0_off1809 (v6838 : BitVec 32) : Fin 2 → Nat :=
  let v6839 : BitVec 32 := v6838
  let c0_i32_4279 : BitVec 32 := 0#32
  ![v6839.toNat, 0]

def k0_chk448 (i : grid0.Coords) (v6838 : BitVec 32) : Prop :=
  (∀ (k0_h2 : k0_cond2 i = 1#1), 8 ∣ (k0_mult895 v6838).toNat) ∧
  (∀ (k0_h2 : k0_cond2 i = 1#1), ∀ a, (k0_off1809 v6838) a + S8x128.size a ≤ S131072x128.size a)
theorem k0_mult895_dvd : ∀ (i : grid0.Coords) (v6838 : BitVec 32) (k0_hw448 : k0_chk448 i v6838), ∀ (k0_h2 : k0_cond2 i = 1#1), 8 ∣ (k0_mult895 v6838).toNat := fun i v6838 k0_hw448 k0_h2 => k0_hw448.1 k0_h2
theorem k0_off1809_inb : ∀ (i : grid0.Coords) (v6838 : BitVec 32) (k0_hw448 : k0_chk448 i v6838), ∀ (k0_h2 : k0_cond2 i = 1#1), ∀ a, (k0_off1809 v6838) a + S8x128.size a ≤ S131072x128.size a := fun i v6838 k0_hw448 k0_h2 => k0_hw448.2 k0_h2

def k0_off1810 (i : grid0.Coords) : Fin 3 → Nat :=
  let c0_4285 : Index := 0#32
  let c0_4286 : Index := 0#32
  let arg1 : BitVec 32 := BitVec.ofNat 32 (i 1).val
  let c2_i32_4280 : BitVec 32 := 2#32
  let v6847 : BitVec 32 := Scalar.muli arg1 c2_i32_4280
  let c1_i32_4281 : BitVec 32 := 1#32
  let v6848 : BitVec 32 := Scalar.addi v6847 c1_i32_4281
  let c256_i32_4282 : BitVec 32 := 256#32
  let v6849 : BitVec 32 := Scalar.muli v6848 c256_i32_4282
  let c191_i32_4283 : BitVec 32 := 191#32
  let v6850 : BitVec 32 := Scalar.addi v6849 c191_i32_4283
  let v6852 : Index := Scalar.indexCast v6850
  ![0, 0, v6852.toNat]
def k0_mult897 (v6853 : BitVec 32) : BitVec 32 :=
  v6853

def k0_mult898 (i : grid0.Coords) : BitVec 32 :=
  let arg1 : BitVec 32 := BitVec.ofNat 32 (i 1).val
  let c2_i32_4280 : BitVec 32 := 2#32
  let v6847 : BitVec 32 := Scalar.muli arg1 c2_i32_4280
  let c1_i32_4281 : BitVec 32 := 1#32
  let v6848 : BitVec 32 := Scalar.addi v6847 c1_i32_4281
  let c256_i32_4282 : BitVec 32 := 256#32
  let v6849 : BitVec 32 := Scalar.muli v6848 c256_i32_4282
  let c191_i32_4283 : BitVec 32 := 191#32
  let v6850 : BitVec 32 := Scalar.addi v6849 c191_i32_4283
  let c8_i32_4287 : BitVec 32 := 8#32
  let v6855 : BitVec 32 := Scalar.muli v6850 c8_i32_4287
  v6855
def k0_off1811 (i : grid0.Coords) : Fin 1 → Nat :=
  let c1_i32_4284 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6851 : BitVec 32 := Scalar.subi c1_i32_4284 v9
  ![v6851.toNat]
def k0_off1812 (i : grid0.Coords) : Fin 3 → Nat :=
  let c1_i32_4284 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6851 : BitVec 32 := Scalar.subi c1_i32_4284 v9
  let arg1 : BitVec 32 := BitVec.ofNat 32 (i 1).val
  let c2_i32_4280 : BitVec 32 := 2#32
  let v6847 : BitVec 32 := Scalar.muli arg1 c2_i32_4280
  let c1_i32_4281 : BitVec 32 := 1#32
  let v6848 : BitVec 32 := Scalar.addi v6847 c1_i32_4281
  let c256_i32_4282 : BitVec 32 := 256#32
  let v6849 : BitVec 32 := Scalar.muli v6848 c256_i32_4282
  let c191_i32_4283 : BitVec 32 := 191#32
  let v6850 : BitVec 32 := Scalar.addi v6849 c191_i32_4283
  let c8_i32_4287 : BitVec 32 := 8#32
  let v6855 : BitVec 32 := Scalar.muli v6850 c8_i32_4287
  let v6856 : BitVec 32 := v6855
  let c0_i32_4288 : BitVec 32 := 0#32
  ![v6851.toNat, v6856.toNat, 0]
def k0_off1813 (v6853 : BitVec 32) : Fin 2 → Nat :=
  let v6854 : BitVec 32 := v6853
  let c0_i32_4289 : BitVec 32 := 0#32
  ![v6854.toNat, 0]

def k0_chk449 (i : grid0.Coords) (v6853 : BitVec 32) : Prop :=
  (∀ (k0_h2 : k0_cond2 i = 1#1), 8 ∣ (k0_mult897 v6853).toNat) ∧
  (∀ (k0_h2 : k0_cond2 i = 1#1), ∀ a, (k0_off1813 v6853) a + S8x128.size a ≤ S131072x128.size a)
theorem k0_mult897_dvd : ∀ (i : grid0.Coords) (v6853 : BitVec 32) (k0_hw449 : k0_chk449 i v6853), ∀ (k0_h2 : k0_cond2 i = 1#1), 8 ∣ (k0_mult897 v6853).toNat := fun i v6853 k0_hw449 k0_h2 => k0_hw449.1 k0_h2
theorem k0_off1813_inb : ∀ (i : grid0.Coords) (v6853 : BitVec 32) (k0_hw449 : k0_chk449 i v6853), ∀ (k0_h2 : k0_cond2 i = 1#1), ∀ a, (k0_off1813 v6853) a + S8x128.size a ≤ S131072x128.size a := fun i v6853 k0_hw449 k0_h2 => k0_hw449.2 k0_h2

def k0_off1814 (i : grid0.Coords) : Fin 3 → Nat :=
  let c0_4295 : Index := 0#32
  let c0_4296 : Index := 0#32
  let arg1 : BitVec 32 := BitVec.ofNat 32 (i 1).val
  let c2_i32_4290 : BitVec 32 := 2#32
  let v6862 : BitVec 32 := Scalar.muli arg1 c2_i32_4290
  let c1_i32_4291 : BitVec 32 := 1#32
  let v6863 : BitVec 32 := Scalar.addi v6862 c1_i32_4291
  let c256_i32_4292 : BitVec 32 := 256#32
  let v6864 : BitVec 32 := Scalar.muli v6863 c256_i32_4292
  let c192_i32_4293 : BitVec 32 := 192#32
  let v6865 : BitVec 32 := Scalar.addi v6864 c192_i32_4293
  let v6867 : Index := Scalar.indexCast v6865
  ![0, 0, v6867.toNat]
def k0_mult899 (v6868 : BitVec 32) : BitVec 32 :=
  v6868

def k0_mult900 (i : grid0.Coords) : BitVec 32 :=
  let arg1 : BitVec 32 := BitVec.ofNat 32 (i 1).val
  let c2_i32_4290 : BitVec 32 := 2#32
  let v6862 : BitVec 32 := Scalar.muli arg1 c2_i32_4290
  let c1_i32_4291 : BitVec 32 := 1#32
  let v6863 : BitVec 32 := Scalar.addi v6862 c1_i32_4291
  let c256_i32_4292 : BitVec 32 := 256#32
  let v6864 : BitVec 32 := Scalar.muli v6863 c256_i32_4292
  let c192_i32_4293 : BitVec 32 := 192#32
  let v6865 : BitVec 32 := Scalar.addi v6864 c192_i32_4293
  let c8_i32_4297 : BitVec 32 := 8#32
  let v6870 : BitVec 32 := Scalar.muli v6865 c8_i32_4297
  v6870
def k0_off1815 (i : grid0.Coords) : Fin 1 → Nat :=
  let c1_i32_4294 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6866 : BitVec 32 := Scalar.subi c1_i32_4294 v9
  ![v6866.toNat]
def k0_off1816 (i : grid0.Coords) : Fin 3 → Nat :=
  let c1_i32_4294 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6866 : BitVec 32 := Scalar.subi c1_i32_4294 v9
  let arg1 : BitVec 32 := BitVec.ofNat 32 (i 1).val
  let c2_i32_4290 : BitVec 32 := 2#32
  let v6862 : BitVec 32 := Scalar.muli arg1 c2_i32_4290
  let c1_i32_4291 : BitVec 32 := 1#32
  let v6863 : BitVec 32 := Scalar.addi v6862 c1_i32_4291
  let c256_i32_4292 : BitVec 32 := 256#32
  let v6864 : BitVec 32 := Scalar.muli v6863 c256_i32_4292
  let c192_i32_4293 : BitVec 32 := 192#32
  let v6865 : BitVec 32 := Scalar.addi v6864 c192_i32_4293
  let c8_i32_4297 : BitVec 32 := 8#32
  let v6870 : BitVec 32 := Scalar.muli v6865 c8_i32_4297
  let v6871 : BitVec 32 := v6870
  let c0_i32_4298 : BitVec 32 := 0#32
  ![v6866.toNat, v6871.toNat, 0]
def k0_off1817 (v6868 : BitVec 32) : Fin 2 → Nat :=
  let v6869 : BitVec 32 := v6868
  let c0_i32_4299 : BitVec 32 := 0#32
  ![v6869.toNat, 0]

def k0_chk450 (i : grid0.Coords) (v6868 : BitVec 32) : Prop :=
  (∀ (k0_h2 : k0_cond2 i = 1#1), 8 ∣ (k0_mult899 v6868).toNat) ∧
  (∀ (k0_h2 : k0_cond2 i = 1#1), ∀ a, (k0_off1817 v6868) a + S8x128.size a ≤ S131072x128.size a)
theorem k0_mult899_dvd : ∀ (i : grid0.Coords) (v6868 : BitVec 32) (k0_hw450 : k0_chk450 i v6868), ∀ (k0_h2 : k0_cond2 i = 1#1), 8 ∣ (k0_mult899 v6868).toNat := fun i v6868 k0_hw450 k0_h2 => k0_hw450.1 k0_h2
theorem k0_off1817_inb : ∀ (i : grid0.Coords) (v6868 : BitVec 32) (k0_hw450 : k0_chk450 i v6868), ∀ (k0_h2 : k0_cond2 i = 1#1), ∀ a, (k0_off1817 v6868) a + S8x128.size a ≤ S131072x128.size a := fun i v6868 k0_hw450 k0_h2 => k0_hw450.2 k0_h2

def k0_off1818 (i : grid0.Coords) : Fin 3 → Nat :=
  let c0_4305 : Index := 0#32
  let c0_4306 : Index := 0#32
  let arg1 : BitVec 32 := BitVec.ofNat 32 (i 1).val
  let c2_i32_4300 : BitVec 32 := 2#32
  let v6877 : BitVec 32 := Scalar.muli arg1 c2_i32_4300
  let c1_i32_4301 : BitVec 32 := 1#32
  let v6878 : BitVec 32 := Scalar.addi v6877 c1_i32_4301
  let c256_i32_4302 : BitVec 32 := 256#32
  let v6879 : BitVec 32 := Scalar.muli v6878 c256_i32_4302
  let c193_i32_4303 : BitVec 32 := 193#32
  let v6880 : BitVec 32 := Scalar.addi v6879 c193_i32_4303
  let v6882 : Index := Scalar.indexCast v6880
  ![0, 0, v6882.toNat]
def k0_mult901 (v6883 : BitVec 32) : BitVec 32 :=
  v6883

def k0_mult902 (i : grid0.Coords) : BitVec 32 :=
  let arg1 : BitVec 32 := BitVec.ofNat 32 (i 1).val
  let c2_i32_4300 : BitVec 32 := 2#32
  let v6877 : BitVec 32 := Scalar.muli arg1 c2_i32_4300
  let c1_i32_4301 : BitVec 32 := 1#32
  let v6878 : BitVec 32 := Scalar.addi v6877 c1_i32_4301
  let c256_i32_4302 : BitVec 32 := 256#32
  let v6879 : BitVec 32 := Scalar.muli v6878 c256_i32_4302
  let c193_i32_4303 : BitVec 32 := 193#32
  let v6880 : BitVec 32 := Scalar.addi v6879 c193_i32_4303
  let c8_i32_4307 : BitVec 32 := 8#32
  let v6885 : BitVec 32 := Scalar.muli v6880 c8_i32_4307
  v6885
def k0_off1819 (i : grid0.Coords) : Fin 1 → Nat :=
  let c1_i32_4304 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6881 : BitVec 32 := Scalar.subi c1_i32_4304 v9
  ![v6881.toNat]
def k0_off1820 (i : grid0.Coords) : Fin 3 → Nat :=
  let c1_i32_4304 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6881 : BitVec 32 := Scalar.subi c1_i32_4304 v9
  let arg1 : BitVec 32 := BitVec.ofNat 32 (i 1).val
  let c2_i32_4300 : BitVec 32 := 2#32
  let v6877 : BitVec 32 := Scalar.muli arg1 c2_i32_4300
  let c1_i32_4301 : BitVec 32 := 1#32
  let v6878 : BitVec 32 := Scalar.addi v6877 c1_i32_4301
  let c256_i32_4302 : BitVec 32 := 256#32
  let v6879 : BitVec 32 := Scalar.muli v6878 c256_i32_4302
  let c193_i32_4303 : BitVec 32 := 193#32
  let v6880 : BitVec 32 := Scalar.addi v6879 c193_i32_4303
  let c8_i32_4307 : BitVec 32 := 8#32
  let v6885 : BitVec 32 := Scalar.muli v6880 c8_i32_4307
  let v6886 : BitVec 32 := v6885
  let c0_i32_4308 : BitVec 32 := 0#32
  ![v6881.toNat, v6886.toNat, 0]
def k0_off1821 (v6883 : BitVec 32) : Fin 2 → Nat :=
  let v6884 : BitVec 32 := v6883
  let c0_i32_4309 : BitVec 32 := 0#32
  ![v6884.toNat, 0]

def k0_chk451 (i : grid0.Coords) (v6883 : BitVec 32) : Prop :=
  (∀ (k0_h2 : k0_cond2 i = 1#1), 8 ∣ (k0_mult901 v6883).toNat) ∧
  (∀ (k0_h2 : k0_cond2 i = 1#1), ∀ a, (k0_off1821 v6883) a + S8x128.size a ≤ S131072x128.size a)
theorem k0_mult901_dvd : ∀ (i : grid0.Coords) (v6883 : BitVec 32) (k0_hw451 : k0_chk451 i v6883), ∀ (k0_h2 : k0_cond2 i = 1#1), 8 ∣ (k0_mult901 v6883).toNat := fun i v6883 k0_hw451 k0_h2 => k0_hw451.1 k0_h2
theorem k0_off1821_inb : ∀ (i : grid0.Coords) (v6883 : BitVec 32) (k0_hw451 : k0_chk451 i v6883), ∀ (k0_h2 : k0_cond2 i = 1#1), ∀ a, (k0_off1821 v6883) a + S8x128.size a ≤ S131072x128.size a := fun i v6883 k0_hw451 k0_h2 => k0_hw451.2 k0_h2

def k0_off1822 (i : grid0.Coords) : Fin 3 → Nat :=
  let c0_4315 : Index := 0#32
  let c0_4316 : Index := 0#32
  let arg1 : BitVec 32 := BitVec.ofNat 32 (i 1).val
  let c2_i32_4310 : BitVec 32 := 2#32
  let v6892 : BitVec 32 := Scalar.muli arg1 c2_i32_4310
  let c1_i32_4311 : BitVec 32 := 1#32
  let v6893 : BitVec 32 := Scalar.addi v6892 c1_i32_4311
  let c256_i32_4312 : BitVec 32 := 256#32
  let v6894 : BitVec 32 := Scalar.muli v6893 c256_i32_4312
  let c194_i32_4313 : BitVec 32 := 194#32
  let v6895 : BitVec 32 := Scalar.addi v6894 c194_i32_4313
  let v6897 : Index := Scalar.indexCast v6895
  ![0, 0, v6897.toNat]
def k0_mult903 (v6898 : BitVec 32) : BitVec 32 :=
  v6898

def k0_mult904 (i : grid0.Coords) : BitVec 32 :=
  let arg1 : BitVec 32 := BitVec.ofNat 32 (i 1).val
  let c2_i32_4310 : BitVec 32 := 2#32
  let v6892 : BitVec 32 := Scalar.muli arg1 c2_i32_4310
  let c1_i32_4311 : BitVec 32 := 1#32
  let v6893 : BitVec 32 := Scalar.addi v6892 c1_i32_4311
  let c256_i32_4312 : BitVec 32 := 256#32
  let v6894 : BitVec 32 := Scalar.muli v6893 c256_i32_4312
  let c194_i32_4313 : BitVec 32 := 194#32
  let v6895 : BitVec 32 := Scalar.addi v6894 c194_i32_4313
  let c8_i32_4317 : BitVec 32 := 8#32
  let v6900 : BitVec 32 := Scalar.muli v6895 c8_i32_4317
  v6900
def k0_off1823 (i : grid0.Coords) : Fin 1 → Nat :=
  let c1_i32_4314 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6896 : BitVec 32 := Scalar.subi c1_i32_4314 v9
  ![v6896.toNat]
def k0_off1824 (i : grid0.Coords) : Fin 3 → Nat :=
  let c1_i32_4314 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6896 : BitVec 32 := Scalar.subi c1_i32_4314 v9
  let arg1 : BitVec 32 := BitVec.ofNat 32 (i 1).val
  let c2_i32_4310 : BitVec 32 := 2#32
  let v6892 : BitVec 32 := Scalar.muli arg1 c2_i32_4310
  let c1_i32_4311 : BitVec 32 := 1#32
  let v6893 : BitVec 32 := Scalar.addi v6892 c1_i32_4311
  let c256_i32_4312 : BitVec 32 := 256#32
  let v6894 : BitVec 32 := Scalar.muli v6893 c256_i32_4312
  let c194_i32_4313 : BitVec 32 := 194#32
  let v6895 : BitVec 32 := Scalar.addi v6894 c194_i32_4313
  let c8_i32_4317 : BitVec 32 := 8#32
  let v6900 : BitVec 32 := Scalar.muli v6895 c8_i32_4317
  let v6901 : BitVec 32 := v6900
  let c0_i32_4318 : BitVec 32 := 0#32
  ![v6896.toNat, v6901.toNat, 0]
def k0_off1825 (v6898 : BitVec 32) : Fin 2 → Nat :=
  let v6899 : BitVec 32 := v6898
  let c0_i32_4319 : BitVec 32 := 0#32
  ![v6899.toNat, 0]

def k0_chk452 (i : grid0.Coords) (v6898 : BitVec 32) : Prop :=
  (∀ (k0_h2 : k0_cond2 i = 1#1), 8 ∣ (k0_mult903 v6898).toNat) ∧
  (∀ (k0_h2 : k0_cond2 i = 1#1), ∀ a, (k0_off1825 v6898) a + S8x128.size a ≤ S131072x128.size a)
theorem k0_mult903_dvd : ∀ (i : grid0.Coords) (v6898 : BitVec 32) (k0_hw452 : k0_chk452 i v6898), ∀ (k0_h2 : k0_cond2 i = 1#1), 8 ∣ (k0_mult903 v6898).toNat := fun i v6898 k0_hw452 k0_h2 => k0_hw452.1 k0_h2
theorem k0_off1825_inb : ∀ (i : grid0.Coords) (v6898 : BitVec 32) (k0_hw452 : k0_chk452 i v6898), ∀ (k0_h2 : k0_cond2 i = 1#1), ∀ a, (k0_off1825 v6898) a + S8x128.size a ≤ S131072x128.size a := fun i v6898 k0_hw452 k0_h2 => k0_hw452.2 k0_h2

def k0_off1826 (i : grid0.Coords) : Fin 3 → Nat :=
  let c0_4325 : Index := 0#32
  let c0_4326 : Index := 0#32
  let arg1 : BitVec 32 := BitVec.ofNat 32 (i 1).val
  let c2_i32_4320 : BitVec 32 := 2#32
  let v6907 : BitVec 32 := Scalar.muli arg1 c2_i32_4320
  let c1_i32_4321 : BitVec 32 := 1#32
  let v6908 : BitVec 32 := Scalar.addi v6907 c1_i32_4321
  let c256_i32_4322 : BitVec 32 := 256#32
  let v6909 : BitVec 32 := Scalar.muli v6908 c256_i32_4322
  let c195_i32_4323 : BitVec 32 := 195#32
  let v6910 : BitVec 32 := Scalar.addi v6909 c195_i32_4323
  let v6912 : Index := Scalar.indexCast v6910
  ![0, 0, v6912.toNat]
def k0_mult905 (v6913 : BitVec 32) : BitVec 32 :=
  v6913

def k0_mult906 (i : grid0.Coords) : BitVec 32 :=
  let arg1 : BitVec 32 := BitVec.ofNat 32 (i 1).val
  let c2_i32_4320 : BitVec 32 := 2#32
  let v6907 : BitVec 32 := Scalar.muli arg1 c2_i32_4320
  let c1_i32_4321 : BitVec 32 := 1#32
  let v6908 : BitVec 32 := Scalar.addi v6907 c1_i32_4321
  let c256_i32_4322 : BitVec 32 := 256#32
  let v6909 : BitVec 32 := Scalar.muli v6908 c256_i32_4322
  let c195_i32_4323 : BitVec 32 := 195#32
  let v6910 : BitVec 32 := Scalar.addi v6909 c195_i32_4323
  let c8_i32_4327 : BitVec 32 := 8#32
  let v6915 : BitVec 32 := Scalar.muli v6910 c8_i32_4327
  v6915
def k0_off1827 (i : grid0.Coords) : Fin 1 → Nat :=
  let c1_i32_4324 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6911 : BitVec 32 := Scalar.subi c1_i32_4324 v9
  ![v6911.toNat]
def k0_off1828 (i : grid0.Coords) : Fin 3 → Nat :=
  let c1_i32_4324 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6911 : BitVec 32 := Scalar.subi c1_i32_4324 v9
  let arg1 : BitVec 32 := BitVec.ofNat 32 (i 1).val
  let c2_i32_4320 : BitVec 32 := 2#32
  let v6907 : BitVec 32 := Scalar.muli arg1 c2_i32_4320
  let c1_i32_4321 : BitVec 32 := 1#32
  let v6908 : BitVec 32 := Scalar.addi v6907 c1_i32_4321
  let c256_i32_4322 : BitVec 32 := 256#32
  let v6909 : BitVec 32 := Scalar.muli v6908 c256_i32_4322
  let c195_i32_4323 : BitVec 32 := 195#32
  let v6910 : BitVec 32 := Scalar.addi v6909 c195_i32_4323
  let c8_i32_4327 : BitVec 32 := 8#32
  let v6915 : BitVec 32 := Scalar.muli v6910 c8_i32_4327
  let v6916 : BitVec 32 := v6915
  let c0_i32_4328 : BitVec 32 := 0#32
  ![v6911.toNat, v6916.toNat, 0]
def k0_off1829 (v6913 : BitVec 32) : Fin 2 → Nat :=
  let v6914 : BitVec 32 := v6913
  let c0_i32_4329 : BitVec 32 := 0#32
  ![v6914.toNat, 0]

def k0_chk453 (i : grid0.Coords) (v6913 : BitVec 32) : Prop :=
  (∀ (k0_h2 : k0_cond2 i = 1#1), 8 ∣ (k0_mult905 v6913).toNat) ∧
  (∀ (k0_h2 : k0_cond2 i = 1#1), ∀ a, (k0_off1829 v6913) a + S8x128.size a ≤ S131072x128.size a)
theorem k0_mult905_dvd : ∀ (i : grid0.Coords) (v6913 : BitVec 32) (k0_hw453 : k0_chk453 i v6913), ∀ (k0_h2 : k0_cond2 i = 1#1), 8 ∣ (k0_mult905 v6913).toNat := fun i v6913 k0_hw453 k0_h2 => k0_hw453.1 k0_h2
theorem k0_off1829_inb : ∀ (i : grid0.Coords) (v6913 : BitVec 32) (k0_hw453 : k0_chk453 i v6913), ∀ (k0_h2 : k0_cond2 i = 1#1), ∀ a, (k0_off1829 v6913) a + S8x128.size a ≤ S131072x128.size a := fun i v6913 k0_hw453 k0_h2 => k0_hw453.2 k0_h2

def k0_off1830 (i : grid0.Coords) : Fin 3 → Nat :=
  let c0_4335 : Index := 0#32
  let c0_4336 : Index := 0#32
  let arg1 : BitVec 32 := BitVec.ofNat 32 (i 1).val
  let c2_i32_4330 : BitVec 32 := 2#32
  let v6922 : BitVec 32 := Scalar.muli arg1 c2_i32_4330
  let c1_i32_4331 : BitVec 32 := 1#32
  let v6923 : BitVec 32 := Scalar.addi v6922 c1_i32_4331
  let c256_i32_4332 : BitVec 32 := 256#32
  let v6924 : BitVec 32 := Scalar.muli v6923 c256_i32_4332
  let c196_i32_4333 : BitVec 32 := 196#32
  let v6925 : BitVec 32 := Scalar.addi v6924 c196_i32_4333
  let v6927 : Index := Scalar.indexCast v6925
  ![0, 0, v6927.toNat]
def k0_mult907 (v6928 : BitVec 32) : BitVec 32 :=
  v6928

def k0_mult908 (i : grid0.Coords) : BitVec 32 :=
  let arg1 : BitVec 32 := BitVec.ofNat 32 (i 1).val
  let c2_i32_4330 : BitVec 32 := 2#32
  let v6922 : BitVec 32 := Scalar.muli arg1 c2_i32_4330
  let c1_i32_4331 : BitVec 32 := 1#32
  let v6923 : BitVec 32 := Scalar.addi v6922 c1_i32_4331
  let c256_i32_4332 : BitVec 32 := 256#32
  let v6924 : BitVec 32 := Scalar.muli v6923 c256_i32_4332
  let c196_i32_4333 : BitVec 32 := 196#32
  let v6925 : BitVec 32 := Scalar.addi v6924 c196_i32_4333
  let c8_i32_4337 : BitVec 32 := 8#32
  let v6930 : BitVec 32 := Scalar.muli v6925 c8_i32_4337
  v6930
def k0_off1831 (i : grid0.Coords) : Fin 1 → Nat :=
  let c1_i32_4334 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6926 : BitVec 32 := Scalar.subi c1_i32_4334 v9
  ![v6926.toNat]
def k0_off1832 (i : grid0.Coords) : Fin 3 → Nat :=
  let c1_i32_4334 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6926 : BitVec 32 := Scalar.subi c1_i32_4334 v9
  let arg1 : BitVec 32 := BitVec.ofNat 32 (i 1).val
  let c2_i32_4330 : BitVec 32 := 2#32
  let v6922 : BitVec 32 := Scalar.muli arg1 c2_i32_4330
  let c1_i32_4331 : BitVec 32 := 1#32
  let v6923 : BitVec 32 := Scalar.addi v6922 c1_i32_4331
  let c256_i32_4332 : BitVec 32 := 256#32
  let v6924 : BitVec 32 := Scalar.muli v6923 c256_i32_4332
  let c196_i32_4333 : BitVec 32 := 196#32
  let v6925 : BitVec 32 := Scalar.addi v6924 c196_i32_4333
  let c8_i32_4337 : BitVec 32 := 8#32
  let v6930 : BitVec 32 := Scalar.muli v6925 c8_i32_4337
  let v6931 : BitVec 32 := v6930
  let c0_i32_4338 : BitVec 32 := 0#32
  ![v6926.toNat, v6931.toNat, 0]
def k0_off1833 (v6928 : BitVec 32) : Fin 2 → Nat :=
  let v6929 : BitVec 32 := v6928
  let c0_i32_4339 : BitVec 32 := 0#32
  ![v6929.toNat, 0]

def k0_chk454 (i : grid0.Coords) (v6928 : BitVec 32) : Prop :=
  (∀ (k0_h2 : k0_cond2 i = 1#1), 8 ∣ (k0_mult907 v6928).toNat) ∧
  (∀ (k0_h2 : k0_cond2 i = 1#1), ∀ a, (k0_off1833 v6928) a + S8x128.size a ≤ S131072x128.size a)
theorem k0_mult907_dvd : ∀ (i : grid0.Coords) (v6928 : BitVec 32) (k0_hw454 : k0_chk454 i v6928), ∀ (k0_h2 : k0_cond2 i = 1#1), 8 ∣ (k0_mult907 v6928).toNat := fun i v6928 k0_hw454 k0_h2 => k0_hw454.1 k0_h2
theorem k0_off1833_inb : ∀ (i : grid0.Coords) (v6928 : BitVec 32) (k0_hw454 : k0_chk454 i v6928), ∀ (k0_h2 : k0_cond2 i = 1#1), ∀ a, (k0_off1833 v6928) a + S8x128.size a ≤ S131072x128.size a := fun i v6928 k0_hw454 k0_h2 => k0_hw454.2 k0_h2

def k0_off1834 (i : grid0.Coords) : Fin 3 → Nat :=
  let c0_4345 : Index := 0#32
  let c0_4346 : Index := 0#32
  let arg1 : BitVec 32 := BitVec.ofNat 32 (i 1).val
  let c2_i32_4340 : BitVec 32 := 2#32
  let v6937 : BitVec 32 := Scalar.muli arg1 c2_i32_4340
  let c1_i32_4341 : BitVec 32 := 1#32
  let v6938 : BitVec 32 := Scalar.addi v6937 c1_i32_4341
  let c256_i32_4342 : BitVec 32 := 256#32
  let v6939 : BitVec 32 := Scalar.muli v6938 c256_i32_4342
  let c197_i32_4343 : BitVec 32 := 197#32
  let v6940 : BitVec 32 := Scalar.addi v6939 c197_i32_4343
  let v6942 : Index := Scalar.indexCast v6940
  ![0, 0, v6942.toNat]
def k0_mult909 (v6943 : BitVec 32) : BitVec 32 :=
  v6943

def k0_mult910 (i : grid0.Coords) : BitVec 32 :=
  let arg1 : BitVec 32 := BitVec.ofNat 32 (i 1).val
  let c2_i32_4340 : BitVec 32 := 2#32
  let v6937 : BitVec 32 := Scalar.muli arg1 c2_i32_4340
  let c1_i32_4341 : BitVec 32 := 1#32
  let v6938 : BitVec 32 := Scalar.addi v6937 c1_i32_4341
  let c256_i32_4342 : BitVec 32 := 256#32
  let v6939 : BitVec 32 := Scalar.muli v6938 c256_i32_4342
  let c197_i32_4343 : BitVec 32 := 197#32
  let v6940 : BitVec 32 := Scalar.addi v6939 c197_i32_4343
  let c8_i32_4347 : BitVec 32 := 8#32
  let v6945 : BitVec 32 := Scalar.muli v6940 c8_i32_4347
  v6945
def k0_off1835 (i : grid0.Coords) : Fin 1 → Nat :=
  let c1_i32_4344 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6941 : BitVec 32 := Scalar.subi c1_i32_4344 v9
  ![v6941.toNat]
def k0_off1836 (i : grid0.Coords) : Fin 3 → Nat :=
  let c1_i32_4344 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6941 : BitVec 32 := Scalar.subi c1_i32_4344 v9
  let arg1 : BitVec 32 := BitVec.ofNat 32 (i 1).val
  let c2_i32_4340 : BitVec 32 := 2#32
  let v6937 : BitVec 32 := Scalar.muli arg1 c2_i32_4340
  let c1_i32_4341 : BitVec 32 := 1#32
  let v6938 : BitVec 32 := Scalar.addi v6937 c1_i32_4341
  let c256_i32_4342 : BitVec 32 := 256#32
  let v6939 : BitVec 32 := Scalar.muli v6938 c256_i32_4342
  let c197_i32_4343 : BitVec 32 := 197#32
  let v6940 : BitVec 32 := Scalar.addi v6939 c197_i32_4343
  let c8_i32_4347 : BitVec 32 := 8#32
  let v6945 : BitVec 32 := Scalar.muli v6940 c8_i32_4347
  let v6946 : BitVec 32 := v6945
  let c0_i32_4348 : BitVec 32 := 0#32
  ![v6941.toNat, v6946.toNat, 0]
def k0_off1837 (v6943 : BitVec 32) : Fin 2 → Nat :=
  let v6944 : BitVec 32 := v6943
  let c0_i32_4349 : BitVec 32 := 0#32
  ![v6944.toNat, 0]

def k0_chk455 (i : grid0.Coords) (v6943 : BitVec 32) : Prop :=
  (∀ (k0_h2 : k0_cond2 i = 1#1), 8 ∣ (k0_mult909 v6943).toNat) ∧
  (∀ (k0_h2 : k0_cond2 i = 1#1), ∀ a, (k0_off1837 v6943) a + S8x128.size a ≤ S131072x128.size a)
theorem k0_mult909_dvd : ∀ (i : grid0.Coords) (v6943 : BitVec 32) (k0_hw455 : k0_chk455 i v6943), ∀ (k0_h2 : k0_cond2 i = 1#1), 8 ∣ (k0_mult909 v6943).toNat := fun i v6943 k0_hw455 k0_h2 => k0_hw455.1 k0_h2
theorem k0_off1837_inb : ∀ (i : grid0.Coords) (v6943 : BitVec 32) (k0_hw455 : k0_chk455 i v6943), ∀ (k0_h2 : k0_cond2 i = 1#1), ∀ a, (k0_off1837 v6943) a + S8x128.size a ≤ S131072x128.size a := fun i v6943 k0_hw455 k0_h2 => k0_hw455.2 k0_h2

def k0_off1838 (i : grid0.Coords) : Fin 3 → Nat :=
  let c0_4355 : Index := 0#32
  let c0_4356 : Index := 0#32
  let arg1 : BitVec 32 := BitVec.ofNat 32 (i 1).val
  let c2_i32_4350 : BitVec 32 := 2#32
  let v6952 : BitVec 32 := Scalar.muli arg1 c2_i32_4350
  let c1_i32_4351 : BitVec 32 := 1#32
  let v6953 : BitVec 32 := Scalar.addi v6952 c1_i32_4351
  let c256_i32_4352 : BitVec 32 := 256#32
  let v6954 : BitVec 32 := Scalar.muli v6953 c256_i32_4352
  let c198_i32_4353 : BitVec 32 := 198#32
  let v6955 : BitVec 32 := Scalar.addi v6954 c198_i32_4353
  let v6957 : Index := Scalar.indexCast v6955
  ![0, 0, v6957.toNat]
def k0_mult911 (v6958 : BitVec 32) : BitVec 32 :=
  v6958

def k0_mult912 (i : grid0.Coords) : BitVec 32 :=
  let arg1 : BitVec 32 := BitVec.ofNat 32 (i 1).val
  let c2_i32_4350 : BitVec 32 := 2#32
  let v6952 : BitVec 32 := Scalar.muli arg1 c2_i32_4350
  let c1_i32_4351 : BitVec 32 := 1#32
  let v6953 : BitVec 32 := Scalar.addi v6952 c1_i32_4351
  let c256_i32_4352 : BitVec 32 := 256#32
  let v6954 : BitVec 32 := Scalar.muli v6953 c256_i32_4352
  let c198_i32_4353 : BitVec 32 := 198#32
  let v6955 : BitVec 32 := Scalar.addi v6954 c198_i32_4353
  let c8_i32_4357 : BitVec 32 := 8#32
  let v6960 : BitVec 32 := Scalar.muli v6955 c8_i32_4357
  v6960
def k0_off1839 (i : grid0.Coords) : Fin 1 → Nat :=
  let c1_i32_4354 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6956 : BitVec 32 := Scalar.subi c1_i32_4354 v9
  ![v6956.toNat]
def k0_off1840 (i : grid0.Coords) : Fin 3 → Nat :=
  let c1_i32_4354 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6956 : BitVec 32 := Scalar.subi c1_i32_4354 v9
  let arg1 : BitVec 32 := BitVec.ofNat 32 (i 1).val
  let c2_i32_4350 : BitVec 32 := 2#32
  let v6952 : BitVec 32 := Scalar.muli arg1 c2_i32_4350
  let c1_i32_4351 : BitVec 32 := 1#32
  let v6953 : BitVec 32 := Scalar.addi v6952 c1_i32_4351
  let c256_i32_4352 : BitVec 32 := 256#32
  let v6954 : BitVec 32 := Scalar.muli v6953 c256_i32_4352
  let c198_i32_4353 : BitVec 32 := 198#32
  let v6955 : BitVec 32 := Scalar.addi v6954 c198_i32_4353
  let c8_i32_4357 : BitVec 32 := 8#32
  let v6960 : BitVec 32 := Scalar.muli v6955 c8_i32_4357
  let v6961 : BitVec 32 := v6960
  let c0_i32_4358 : BitVec 32 := 0#32
  ![v6956.toNat, v6961.toNat, 0]
def k0_off1841 (v6958 : BitVec 32) : Fin 2 → Nat :=
  let v6959 : BitVec 32 := v6958
  let c0_i32_4359 : BitVec 32 := 0#32
  ![v6959.toNat, 0]

def k0_chk456 (i : grid0.Coords) (v6958 : BitVec 32) : Prop :=
  (∀ (k0_h2 : k0_cond2 i = 1#1), 8 ∣ (k0_mult911 v6958).toNat) ∧
  (∀ (k0_h2 : k0_cond2 i = 1#1), ∀ a, (k0_off1841 v6958) a + S8x128.size a ≤ S131072x128.size a)
theorem k0_mult911_dvd : ∀ (i : grid0.Coords) (v6958 : BitVec 32) (k0_hw456 : k0_chk456 i v6958), ∀ (k0_h2 : k0_cond2 i = 1#1), 8 ∣ (k0_mult911 v6958).toNat := fun i v6958 k0_hw456 k0_h2 => k0_hw456.1 k0_h2
theorem k0_off1841_inb : ∀ (i : grid0.Coords) (v6958 : BitVec 32) (k0_hw456 : k0_chk456 i v6958), ∀ (k0_h2 : k0_cond2 i = 1#1), ∀ a, (k0_off1841 v6958) a + S8x128.size a ≤ S131072x128.size a := fun i v6958 k0_hw456 k0_h2 => k0_hw456.2 k0_h2

def k0_off1842 (i : grid0.Coords) : Fin 3 → Nat :=
  let c0_4365 : Index := 0#32
  let c0_4366 : Index := 0#32
  let arg1 : BitVec 32 := BitVec.ofNat 32 (i 1).val
  let c2_i32_4360 : BitVec 32 := 2#32
  let v6967 : BitVec 32 := Scalar.muli arg1 c2_i32_4360
  let c1_i32_4361 : BitVec 32 := 1#32
  let v6968 : BitVec 32 := Scalar.addi v6967 c1_i32_4361
  let c256_i32_4362 : BitVec 32 := 256#32
  let v6969 : BitVec 32 := Scalar.muli v6968 c256_i32_4362
  let c199_i32_4363 : BitVec 32 := 199#32
  let v6970 : BitVec 32 := Scalar.addi v6969 c199_i32_4363
  let v6972 : Index := Scalar.indexCast v6970
  ![0, 0, v6972.toNat]
def k0_mult913 (v6973 : BitVec 32) : BitVec 32 :=
  v6973

def k0_mult914 (i : grid0.Coords) : BitVec 32 :=
  let arg1 : BitVec 32 := BitVec.ofNat 32 (i 1).val
  let c2_i32_4360 : BitVec 32 := 2#32
  let v6967 : BitVec 32 := Scalar.muli arg1 c2_i32_4360
  let c1_i32_4361 : BitVec 32 := 1#32
  let v6968 : BitVec 32 := Scalar.addi v6967 c1_i32_4361
  let c256_i32_4362 : BitVec 32 := 256#32
  let v6969 : BitVec 32 := Scalar.muli v6968 c256_i32_4362
  let c199_i32_4363 : BitVec 32 := 199#32
  let v6970 : BitVec 32 := Scalar.addi v6969 c199_i32_4363
  let c8_i32_4367 : BitVec 32 := 8#32
  let v6975 : BitVec 32 := Scalar.muli v6970 c8_i32_4367
  v6975
def k0_off1843 (i : grid0.Coords) : Fin 1 → Nat :=
  let c1_i32_4364 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6971 : BitVec 32 := Scalar.subi c1_i32_4364 v9
  ![v6971.toNat]
def k0_off1844 (i : grid0.Coords) : Fin 3 → Nat :=
  let c1_i32_4364 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6971 : BitVec 32 := Scalar.subi c1_i32_4364 v9
  let arg1 : BitVec 32 := BitVec.ofNat 32 (i 1).val
  let c2_i32_4360 : BitVec 32 := 2#32
  let v6967 : BitVec 32 := Scalar.muli arg1 c2_i32_4360
  let c1_i32_4361 : BitVec 32 := 1#32
  let v6968 : BitVec 32 := Scalar.addi v6967 c1_i32_4361
  let c256_i32_4362 : BitVec 32 := 256#32
  let v6969 : BitVec 32 := Scalar.muli v6968 c256_i32_4362
  let c199_i32_4363 : BitVec 32 := 199#32
  let v6970 : BitVec 32 := Scalar.addi v6969 c199_i32_4363
  let c8_i32_4367 : BitVec 32 := 8#32
  let v6975 : BitVec 32 := Scalar.muli v6970 c8_i32_4367
  let v6976 : BitVec 32 := v6975
  let c0_i32_4368 : BitVec 32 := 0#32
  ![v6971.toNat, v6976.toNat, 0]
def k0_off1845 (v6973 : BitVec 32) : Fin 2 → Nat :=
  let v6974 : BitVec 32 := v6973
  let c0_i32_4369 : BitVec 32 := 0#32
  ![v6974.toNat, 0]

def k0_chk457 (i : grid0.Coords) (v6973 : BitVec 32) : Prop :=
  (∀ (k0_h2 : k0_cond2 i = 1#1), 8 ∣ (k0_mult913 v6973).toNat) ∧
  (∀ (k0_h2 : k0_cond2 i = 1#1), ∀ a, (k0_off1845 v6973) a + S8x128.size a ≤ S131072x128.size a)
theorem k0_mult913_dvd : ∀ (i : grid0.Coords) (v6973 : BitVec 32) (k0_hw457 : k0_chk457 i v6973), ∀ (k0_h2 : k0_cond2 i = 1#1), 8 ∣ (k0_mult913 v6973).toNat := fun i v6973 k0_hw457 k0_h2 => k0_hw457.1 k0_h2
theorem k0_off1845_inb : ∀ (i : grid0.Coords) (v6973 : BitVec 32) (k0_hw457 : k0_chk457 i v6973), ∀ (k0_h2 : k0_cond2 i = 1#1), ∀ a, (k0_off1845 v6973) a + S8x128.size a ≤ S131072x128.size a := fun i v6973 k0_hw457 k0_h2 => k0_hw457.2 k0_h2

def k0_off1846 (i : grid0.Coords) : Fin 3 → Nat :=
  let c0_4375 : Index := 0#32
  let c0_4376 : Index := 0#32
  let arg1 : BitVec 32 := BitVec.ofNat 32 (i 1).val
  let c2_i32_4370 : BitVec 32 := 2#32
  let v6982 : BitVec 32 := Scalar.muli arg1 c2_i32_4370
  let c1_i32_4371 : BitVec 32 := 1#32
  let v6983 : BitVec 32 := Scalar.addi v6982 c1_i32_4371
  let c256_i32_4372 : BitVec 32 := 256#32
  let v6984 : BitVec 32 := Scalar.muli v6983 c256_i32_4372
  let c200_i32_4373 : BitVec 32 := 200#32
  let v6985 : BitVec 32 := Scalar.addi v6984 c200_i32_4373
  let v6987 : Index := Scalar.indexCast v6985
  ![0, 0, v6987.toNat]
def k0_mult915 (v6988 : BitVec 32) : BitVec 32 :=
  v6988

def k0_mult916 (i : grid0.Coords) : BitVec 32 :=
  let arg1 : BitVec 32 := BitVec.ofNat 32 (i 1).val
  let c2_i32_4370 : BitVec 32 := 2#32
  let v6982 : BitVec 32 := Scalar.muli arg1 c2_i32_4370
  let c1_i32_4371 : BitVec 32 := 1#32
  let v6983 : BitVec 32 := Scalar.addi v6982 c1_i32_4371
  let c256_i32_4372 : BitVec 32 := 256#32
  let v6984 : BitVec 32 := Scalar.muli v6983 c256_i32_4372
  let c200_i32_4373 : BitVec 32 := 200#32
  let v6985 : BitVec 32 := Scalar.addi v6984 c200_i32_4373
  let c8_i32_4377 : BitVec 32 := 8#32
  let v6990 : BitVec 32 := Scalar.muli v6985 c8_i32_4377
  v6990
def k0_off1847 (i : grid0.Coords) : Fin 1 → Nat :=
  let c1_i32_4374 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6986 : BitVec 32 := Scalar.subi c1_i32_4374 v9
  ![v6986.toNat]
def k0_off1848 (i : grid0.Coords) : Fin 3 → Nat :=
  let c1_i32_4374 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6986 : BitVec 32 := Scalar.subi c1_i32_4374 v9
  let arg1 : BitVec 32 := BitVec.ofNat 32 (i 1).val
  let c2_i32_4370 : BitVec 32 := 2#32
  let v6982 : BitVec 32 := Scalar.muli arg1 c2_i32_4370
  let c1_i32_4371 : BitVec 32 := 1#32
  let v6983 : BitVec 32 := Scalar.addi v6982 c1_i32_4371
  let c256_i32_4372 : BitVec 32 := 256#32
  let v6984 : BitVec 32 := Scalar.muli v6983 c256_i32_4372
  let c200_i32_4373 : BitVec 32 := 200#32
  let v6985 : BitVec 32 := Scalar.addi v6984 c200_i32_4373
  let c8_i32_4377 : BitVec 32 := 8#32
  let v6990 : BitVec 32 := Scalar.muli v6985 c8_i32_4377
  let v6991 : BitVec 32 := v6990
  let c0_i32_4378 : BitVec 32 := 0#32
  ![v6986.toNat, v6991.toNat, 0]
def k0_off1849 (v6988 : BitVec 32) : Fin 2 → Nat :=
  let v6989 : BitVec 32 := v6988
  let c0_i32_4379 : BitVec 32 := 0#32
  ![v6989.toNat, 0]

def k0_chk458 (i : grid0.Coords) (v6988 : BitVec 32) : Prop :=
  (∀ (k0_h2 : k0_cond2 i = 1#1), 8 ∣ (k0_mult915 v6988).toNat) ∧
  (∀ (k0_h2 : k0_cond2 i = 1#1), ∀ a, (k0_off1849 v6988) a + S8x128.size a ≤ S131072x128.size a)
theorem k0_mult915_dvd : ∀ (i : grid0.Coords) (v6988 : BitVec 32) (k0_hw458 : k0_chk458 i v6988), ∀ (k0_h2 : k0_cond2 i = 1#1), 8 ∣ (k0_mult915 v6988).toNat := fun i v6988 k0_hw458 k0_h2 => k0_hw458.1 k0_h2
theorem k0_off1849_inb : ∀ (i : grid0.Coords) (v6988 : BitVec 32) (k0_hw458 : k0_chk458 i v6988), ∀ (k0_h2 : k0_cond2 i = 1#1), ∀ a, (k0_off1849 v6988) a + S8x128.size a ≤ S131072x128.size a := fun i v6988 k0_hw458 k0_h2 => k0_hw458.2 k0_h2

def k0_off1850 (i : grid0.Coords) : Fin 3 → Nat :=
  let c0_4385 : Index := 0#32
  let c0_4386 : Index := 0#32
  let arg1 : BitVec 32 := BitVec.ofNat 32 (i 1).val
  let c2_i32_4380 : BitVec 32 := 2#32
  let v6997 : BitVec 32 := Scalar.muli arg1 c2_i32_4380
  let c1_i32_4381 : BitVec 32 := 1#32
  let v6998 : BitVec 32 := Scalar.addi v6997 c1_i32_4381
  let c256_i32_4382 : BitVec 32 := 256#32
  let v6999 : BitVec 32 := Scalar.muli v6998 c256_i32_4382
  let c201_i32_4383 : BitVec 32 := 201#32
  let v7000 : BitVec 32 := Scalar.addi v6999 c201_i32_4383
  let v7002 : Index := Scalar.indexCast v7000
  ![0, 0, v7002.toNat]
def k0_mult917 (v7003 : BitVec 32) : BitVec 32 :=
  v7003

def k0_mult918 (i : grid0.Coords) : BitVec 32 :=
  let arg1 : BitVec 32 := BitVec.ofNat 32 (i 1).val
  let c2_i32_4380 : BitVec 32 := 2#32
  let v6997 : BitVec 32 := Scalar.muli arg1 c2_i32_4380
  let c1_i32_4381 : BitVec 32 := 1#32
  let v6998 : BitVec 32 := Scalar.addi v6997 c1_i32_4381
  let c256_i32_4382 : BitVec 32 := 256#32
  let v6999 : BitVec 32 := Scalar.muli v6998 c256_i32_4382
  let c201_i32_4383 : BitVec 32 := 201#32
  let v7000 : BitVec 32 := Scalar.addi v6999 c201_i32_4383
  let c8_i32_4387 : BitVec 32 := 8#32
  let v7005 : BitVec 32 := Scalar.muli v7000 c8_i32_4387
  v7005
def k0_off1851 (i : grid0.Coords) : Fin 1 → Nat :=
  let c1_i32_4384 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7001 : BitVec 32 := Scalar.subi c1_i32_4384 v9
  ![v7001.toNat]
def k0_off1852 (i : grid0.Coords) : Fin 3 → Nat :=
  let c1_i32_4384 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7001 : BitVec 32 := Scalar.subi c1_i32_4384 v9
  let arg1 : BitVec 32 := BitVec.ofNat 32 (i 1).val
  let c2_i32_4380 : BitVec 32 := 2#32
  let v6997 : BitVec 32 := Scalar.muli arg1 c2_i32_4380
  let c1_i32_4381 : BitVec 32 := 1#32
  let v6998 : BitVec 32 := Scalar.addi v6997 c1_i32_4381
  let c256_i32_4382 : BitVec 32 := 256#32
  let v6999 : BitVec 32 := Scalar.muli v6998 c256_i32_4382
  let c201_i32_4383 : BitVec 32 := 201#32
  let v7000 : BitVec 32 := Scalar.addi v6999 c201_i32_4383
  let c8_i32_4387 : BitVec 32 := 8#32
  let v7005 : BitVec 32 := Scalar.muli v7000 c8_i32_4387
  let v7006 : BitVec 32 := v7005
  let c0_i32_4388 : BitVec 32 := 0#32
  ![v7001.toNat, v7006.toNat, 0]
def k0_off1853 (v7003 : BitVec 32) : Fin 2 → Nat :=
  let v7004 : BitVec 32 := v7003
  let c0_i32_4389 : BitVec 32 := 0#32
  ![v7004.toNat, 0]

def k0_chk459 (i : grid0.Coords) (v7003 : BitVec 32) : Prop :=
  (∀ (k0_h2 : k0_cond2 i = 1#1), 8 ∣ (k0_mult917 v7003).toNat) ∧
  (∀ (k0_h2 : k0_cond2 i = 1#1), ∀ a, (k0_off1853 v7003) a + S8x128.size a ≤ S131072x128.size a)
theorem k0_mult917_dvd : ∀ (i : grid0.Coords) (v7003 : BitVec 32) (k0_hw459 : k0_chk459 i v7003), ∀ (k0_h2 : k0_cond2 i = 1#1), 8 ∣ (k0_mult917 v7003).toNat := fun i v7003 k0_hw459 k0_h2 => k0_hw459.1 k0_h2
theorem k0_off1853_inb : ∀ (i : grid0.Coords) (v7003 : BitVec 32) (k0_hw459 : k0_chk459 i v7003), ∀ (k0_h2 : k0_cond2 i = 1#1), ∀ a, (k0_off1853 v7003) a + S8x128.size a ≤ S131072x128.size a := fun i v7003 k0_hw459 k0_h2 => k0_hw459.2 k0_h2

def k0_off1854 (i : grid0.Coords) : Fin 3 → Nat :=
  let c0_4395 : Index := 0#32
  let c0_4396 : Index := 0#32
  let arg1 : BitVec 32 := BitVec.ofNat 32 (i 1).val
  let c2_i32_4390 : BitVec 32 := 2#32
  let v7012 : BitVec 32 := Scalar.muli arg1 c2_i32_4390
  let c1_i32_4391 : BitVec 32 := 1#32
  let v7013 : BitVec 32 := Scalar.addi v7012 c1_i32_4391
  let c256_i32_4392 : BitVec 32 := 256#32
  let v7014 : BitVec 32 := Scalar.muli v7013 c256_i32_4392
  let c202_i32_4393 : BitVec 32 := 202#32
  let v7015 : BitVec 32 := Scalar.addi v7014 c202_i32_4393
  let v7017 : Index := Scalar.indexCast v7015
  ![0, 0, v7017.toNat]
def k0_mult919 (v7018 : BitVec 32) : BitVec 32 :=
  v7018

def k0_mult920 (i : grid0.Coords) : BitVec 32 :=
  let arg1 : BitVec 32 := BitVec.ofNat 32 (i 1).val
  let c2_i32_4390 : BitVec 32 := 2#32
  let v7012 : BitVec 32 := Scalar.muli arg1 c2_i32_4390
  let c1_i32_4391 : BitVec 32 := 1#32
  let v7013 : BitVec 32 := Scalar.addi v7012 c1_i32_4391
  let c256_i32_4392 : BitVec 32 := 256#32
  let v7014 : BitVec 32 := Scalar.muli v7013 c256_i32_4392
  let c202_i32_4393 : BitVec 32 := 202#32
  let v7015 : BitVec 32 := Scalar.addi v7014 c202_i32_4393
  let c8_i32_4397 : BitVec 32 := 8#32
  let v7020 : BitVec 32 := Scalar.muli v7015 c8_i32_4397
  v7020
def k0_off1855 (i : grid0.Coords) : Fin 1 → Nat :=
  let c1_i32_4394 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7016 : BitVec 32 := Scalar.subi c1_i32_4394 v9
  ![v7016.toNat]
def k0_off1856 (i : grid0.Coords) : Fin 3 → Nat :=
  let c1_i32_4394 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7016 : BitVec 32 := Scalar.subi c1_i32_4394 v9
  let arg1 : BitVec 32 := BitVec.ofNat 32 (i 1).val
  let c2_i32_4390 : BitVec 32 := 2#32
  let v7012 : BitVec 32 := Scalar.muli arg1 c2_i32_4390
  let c1_i32_4391 : BitVec 32 := 1#32
  let v7013 : BitVec 32 := Scalar.addi v7012 c1_i32_4391
  let c256_i32_4392 : BitVec 32 := 256#32
  let v7014 : BitVec 32 := Scalar.muli v7013 c256_i32_4392
  let c202_i32_4393 : BitVec 32 := 202#32
  let v7015 : BitVec 32 := Scalar.addi v7014 c202_i32_4393
  let c8_i32_4397 : BitVec 32 := 8#32
  let v7020 : BitVec 32 := Scalar.muli v7015 c8_i32_4397
  let v7021 : BitVec 32 := v7020
  let c0_i32_4398 : BitVec 32 := 0#32
  ![v7016.toNat, v7021.toNat, 0]
def k0_off1857 (v7018 : BitVec 32) : Fin 2 → Nat :=
  let v7019 : BitVec 32 := v7018
  let c0_i32_4399 : BitVec 32 := 0#32
  ![v7019.toNat, 0]

def k0_chk460 (i : grid0.Coords) (v7018 : BitVec 32) : Prop :=
  (∀ (k0_h2 : k0_cond2 i = 1#1), 8 ∣ (k0_mult919 v7018).toNat) ∧
  (∀ (k0_h2 : k0_cond2 i = 1#1), ∀ a, (k0_off1857 v7018) a + S8x128.size a ≤ S131072x128.size a)
theorem k0_mult919_dvd : ∀ (i : grid0.Coords) (v7018 : BitVec 32) (k0_hw460 : k0_chk460 i v7018), ∀ (k0_h2 : k0_cond2 i = 1#1), 8 ∣ (k0_mult919 v7018).toNat := fun i v7018 k0_hw460 k0_h2 => k0_hw460.1 k0_h2
theorem k0_off1857_inb : ∀ (i : grid0.Coords) (v7018 : BitVec 32) (k0_hw460 : k0_chk460 i v7018), ∀ (k0_h2 : k0_cond2 i = 1#1), ∀ a, (k0_off1857 v7018) a + S8x128.size a ≤ S131072x128.size a := fun i v7018 k0_hw460 k0_h2 => k0_hw460.2 k0_h2

def k0_off1858 (i : grid0.Coords) : Fin 3 → Nat :=
  let c0_4405 : Index := 0#32
  let c0_4406 : Index := 0#32
  let arg1 : BitVec 32 := BitVec.ofNat 32 (i 1).val
  let c2_i32_4400 : BitVec 32 := 2#32
  let v7027 : BitVec 32 := Scalar.muli arg1 c2_i32_4400
  let c1_i32_4401 : BitVec 32 := 1#32
  let v7028 : BitVec 32 := Scalar.addi v7027 c1_i32_4401
  let c256_i32_4402 : BitVec 32 := 256#32
  let v7029 : BitVec 32 := Scalar.muli v7028 c256_i32_4402
  let c203_i32_4403 : BitVec 32 := 203#32
  let v7030 : BitVec 32 := Scalar.addi v7029 c203_i32_4403
  let v7032 : Index := Scalar.indexCast v7030
  ![0, 0, v7032.toNat]
def k0_mult921 (v7033 : BitVec 32) : BitVec 32 :=
  v7033

def k0_mult922 (i : grid0.Coords) : BitVec 32 :=
  let arg1 : BitVec 32 := BitVec.ofNat 32 (i 1).val
  let c2_i32_4400 : BitVec 32 := 2#32
  let v7027 : BitVec 32 := Scalar.muli arg1 c2_i32_4400
  let c1_i32_4401 : BitVec 32 := 1#32
  let v7028 : BitVec 32 := Scalar.addi v7027 c1_i32_4401
  let c256_i32_4402 : BitVec 32 := 256#32
  let v7029 : BitVec 32 := Scalar.muli v7028 c256_i32_4402
  let c203_i32_4403 : BitVec 32 := 203#32
  let v7030 : BitVec 32 := Scalar.addi v7029 c203_i32_4403
  let c8_i32_4407 : BitVec 32 := 8#32
  let v7035 : BitVec 32 := Scalar.muli v7030 c8_i32_4407
  v7035
def k0_off1859 (i : grid0.Coords) : Fin 1 → Nat :=
  let c1_i32_4404 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7031 : BitVec 32 := Scalar.subi c1_i32_4404 v9
  ![v7031.toNat]
def k0_off1860 (i : grid0.Coords) : Fin 3 → Nat :=
  let c1_i32_4404 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7031 : BitVec 32 := Scalar.subi c1_i32_4404 v9
  let arg1 : BitVec 32 := BitVec.ofNat 32 (i 1).val
  let c2_i32_4400 : BitVec 32 := 2#32
  let v7027 : BitVec 32 := Scalar.muli arg1 c2_i32_4400
  let c1_i32_4401 : BitVec 32 := 1#32
  let v7028 : BitVec 32 := Scalar.addi v7027 c1_i32_4401
  let c256_i32_4402 : BitVec 32 := 256#32
  let v7029 : BitVec 32 := Scalar.muli v7028 c256_i32_4402
  let c203_i32_4403 : BitVec 32 := 203#32
  let v7030 : BitVec 32 := Scalar.addi v7029 c203_i32_4403
  let c8_i32_4407 : BitVec 32 := 8#32
  let v7035 : BitVec 32 := Scalar.muli v7030 c8_i32_4407
  let v7036 : BitVec 32 := v7035
  let c0_i32_4408 : BitVec 32 := 0#32
  ![v7031.toNat, v7036.toNat, 0]
def k0_off1861 (v7033 : BitVec 32) : Fin 2 → Nat :=
  let v7034 : BitVec 32 := v7033
  let c0_i32_4409 : BitVec 32 := 0#32
  ![v7034.toNat, 0]

def k0_chk461 (i : grid0.Coords) (v7033 : BitVec 32) : Prop :=
  (∀ (k0_h2 : k0_cond2 i = 1#1), 8 ∣ (k0_mult921 v7033).toNat) ∧
  (∀ (k0_h2 : k0_cond2 i = 1#1), ∀ a, (k0_off1861 v7033) a + S8x128.size a ≤ S131072x128.size a)
theorem k0_mult921_dvd : ∀ (i : grid0.Coords) (v7033 : BitVec 32) (k0_hw461 : k0_chk461 i v7033), ∀ (k0_h2 : k0_cond2 i = 1#1), 8 ∣ (k0_mult921 v7033).toNat := fun i v7033 k0_hw461 k0_h2 => k0_hw461.1 k0_h2
theorem k0_off1861_inb : ∀ (i : grid0.Coords) (v7033 : BitVec 32) (k0_hw461 : k0_chk461 i v7033), ∀ (k0_h2 : k0_cond2 i = 1#1), ∀ a, (k0_off1861 v7033) a + S8x128.size a ≤ S131072x128.size a := fun i v7033 k0_hw461 k0_h2 => k0_hw461.2 k0_h2

def k0_off1862 (i : grid0.Coords) : Fin 3 → Nat :=
  let c0_4415 : Index := 0#32
  let c0_4416 : Index := 0#32
  let arg1 : BitVec 32 := BitVec.ofNat 32 (i 1).val
  let c2_i32_4410 : BitVec 32 := 2#32
  let v7042 : BitVec 32 := Scalar.muli arg1 c2_i32_4410
  let c1_i32_4411 : BitVec 32 := 1#32
  let v7043 : BitVec 32 := Scalar.addi v7042 c1_i32_4411
  let c256_i32_4412 : BitVec 32 := 256#32
  let v7044 : BitVec 32 := Scalar.muli v7043 c256_i32_4412
  let c204_i32_4413 : BitVec 32 := 204#32
  let v7045 : BitVec 32 := Scalar.addi v7044 c204_i32_4413
  let v7047 : Index := Scalar.indexCast v7045
  ![0, 0, v7047.toNat]
def k0_mult923 (v7048 : BitVec 32) : BitVec 32 :=
  v7048

def k0_mult924 (i : grid0.Coords) : BitVec 32 :=
  let arg1 : BitVec 32 := BitVec.ofNat 32 (i 1).val
  let c2_i32_4410 : BitVec 32 := 2#32
  let v7042 : BitVec 32 := Scalar.muli arg1 c2_i32_4410
  let c1_i32_4411 : BitVec 32 := 1#32
  let v7043 : BitVec 32 := Scalar.addi v7042 c1_i32_4411
  let c256_i32_4412 : BitVec 32 := 256#32
  let v7044 : BitVec 32 := Scalar.muli v7043 c256_i32_4412
  let c204_i32_4413 : BitVec 32 := 204#32
  let v7045 : BitVec 32 := Scalar.addi v7044 c204_i32_4413
  let c8_i32_4417 : BitVec 32 := 8#32
  let v7050 : BitVec 32 := Scalar.muli v7045 c8_i32_4417
  v7050
def k0_off1863 (i : grid0.Coords) : Fin 1 → Nat :=
  let c1_i32_4414 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7046 : BitVec 32 := Scalar.subi c1_i32_4414 v9
  ![v7046.toNat]
def k0_off1864 (i : grid0.Coords) : Fin 3 → Nat :=
  let c1_i32_4414 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7046 : BitVec 32 := Scalar.subi c1_i32_4414 v9
  let arg1 : BitVec 32 := BitVec.ofNat 32 (i 1).val
  let c2_i32_4410 : BitVec 32 := 2#32
  let v7042 : BitVec 32 := Scalar.muli arg1 c2_i32_4410
  let c1_i32_4411 : BitVec 32 := 1#32
  let v7043 : BitVec 32 := Scalar.addi v7042 c1_i32_4411
  let c256_i32_4412 : BitVec 32 := 256#32
  let v7044 : BitVec 32 := Scalar.muli v7043 c256_i32_4412
  let c204_i32_4413 : BitVec 32 := 204#32
  let v7045 : BitVec 32 := Scalar.addi v7044 c204_i32_4413
  let c8_i32_4417 : BitVec 32 := 8#32
  let v7050 : BitVec 32 := Scalar.muli v7045 c8_i32_4417
  let v7051 : BitVec 32 := v7050
  let c0_i32_4418 : BitVec 32 := 0#32
  ![v7046.toNat, v7051.toNat, 0]
def k0_off1865 (v7048 : BitVec 32) : Fin 2 → Nat :=
  let v7049 : BitVec 32 := v7048
  let c0_i32_4419 : BitVec 32 := 0#32
  ![v7049.toNat, 0]

def k0_chk462 (i : grid0.Coords) (v7048 : BitVec 32) : Prop :=
  (∀ (k0_h2 : k0_cond2 i = 1#1), 8 ∣ (k0_mult923 v7048).toNat) ∧
  (∀ (k0_h2 : k0_cond2 i = 1#1), ∀ a, (k0_off1865 v7048) a + S8x128.size a ≤ S131072x128.size a)
theorem k0_mult923_dvd : ∀ (i : grid0.Coords) (v7048 : BitVec 32) (k0_hw462 : k0_chk462 i v7048), ∀ (k0_h2 : k0_cond2 i = 1#1), 8 ∣ (k0_mult923 v7048).toNat := fun i v7048 k0_hw462 k0_h2 => k0_hw462.1 k0_h2
theorem k0_off1865_inb : ∀ (i : grid0.Coords) (v7048 : BitVec 32) (k0_hw462 : k0_chk462 i v7048), ∀ (k0_h2 : k0_cond2 i = 1#1), ∀ a, (k0_off1865 v7048) a + S8x128.size a ≤ S131072x128.size a := fun i v7048 k0_hw462 k0_h2 => k0_hw462.2 k0_h2

def k0_off1866 (i : grid0.Coords) : Fin 3 → Nat :=
  let c0_4425 : Index := 0#32
  let c0_4426 : Index := 0#32
  let arg1 : BitVec 32 := BitVec.ofNat 32 (i 1).val
  let c2_i32_4420 : BitVec 32 := 2#32
  let v7057 : BitVec 32 := Scalar.muli arg1 c2_i32_4420
  let c1_i32_4421 : BitVec 32 := 1#32
  let v7058 : BitVec 32 := Scalar.addi v7057 c1_i32_4421
  let c256_i32_4422 : BitVec 32 := 256#32
  let v7059 : BitVec 32 := Scalar.muli v7058 c256_i32_4422
  let c205_i32_4423 : BitVec 32 := 205#32
  let v7060 : BitVec 32 := Scalar.addi v7059 c205_i32_4423
  let v7062 : Index := Scalar.indexCast v7060
  ![0, 0, v7062.toNat]
def k0_mult925 (v7063 : BitVec 32) : BitVec 32 :=
  v7063

def k0_mult926 (i : grid0.Coords) : BitVec 32 :=
  let arg1 : BitVec 32 := BitVec.ofNat 32 (i 1).val
  let c2_i32_4420 : BitVec 32 := 2#32
  let v7057 : BitVec 32 := Scalar.muli arg1 c2_i32_4420
  let c1_i32_4421 : BitVec 32 := 1#32
  let v7058 : BitVec 32 := Scalar.addi v7057 c1_i32_4421
  let c256_i32_4422 : BitVec 32 := 256#32
  let v7059 : BitVec 32 := Scalar.muli v7058 c256_i32_4422
  let c205_i32_4423 : BitVec 32 := 205#32
  let v7060 : BitVec 32 := Scalar.addi v7059 c205_i32_4423
  let c8_i32_4427 : BitVec 32 := 8#32
  let v7065 : BitVec 32 := Scalar.muli v7060 c8_i32_4427
  v7065
def k0_off1867 (i : grid0.Coords) : Fin 1 → Nat :=
  let c1_i32_4424 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7061 : BitVec 32 := Scalar.subi c1_i32_4424 v9
  ![v7061.toNat]
def k0_off1868 (i : grid0.Coords) : Fin 3 → Nat :=
  let c1_i32_4424 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7061 : BitVec 32 := Scalar.subi c1_i32_4424 v9
  let arg1 : BitVec 32 := BitVec.ofNat 32 (i 1).val
  let c2_i32_4420 : BitVec 32 := 2#32
  let v7057 : BitVec 32 := Scalar.muli arg1 c2_i32_4420
  let c1_i32_4421 : BitVec 32 := 1#32
  let v7058 : BitVec 32 := Scalar.addi v7057 c1_i32_4421
  let c256_i32_4422 : BitVec 32 := 256#32
  let v7059 : BitVec 32 := Scalar.muli v7058 c256_i32_4422
  let c205_i32_4423 : BitVec 32 := 205#32
  let v7060 : BitVec 32 := Scalar.addi v7059 c205_i32_4423
  let c8_i32_4427 : BitVec 32 := 8#32
  let v7065 : BitVec 32 := Scalar.muli v7060 c8_i32_4427
  let v7066 : BitVec 32 := v7065
  let c0_i32_4428 : BitVec 32 := 0#32
  ![v7061.toNat, v7066.toNat, 0]
def k0_off1869 (v7063 : BitVec 32) : Fin 2 → Nat :=
  let v7064 : BitVec 32 := v7063
  let c0_i32_4429 : BitVec 32 := 0#32
  ![v7064.toNat, 0]

def k0_chk463 (i : grid0.Coords) (v7063 : BitVec 32) : Prop :=
  (∀ (k0_h2 : k0_cond2 i = 1#1), 8 ∣ (k0_mult925 v7063).toNat) ∧
  (∀ (k0_h2 : k0_cond2 i = 1#1), ∀ a, (k0_off1869 v7063) a + S8x128.size a ≤ S131072x128.size a)
theorem k0_mult925_dvd : ∀ (i : grid0.Coords) (v7063 : BitVec 32) (k0_hw463 : k0_chk463 i v7063), ∀ (k0_h2 : k0_cond2 i = 1#1), 8 ∣ (k0_mult925 v7063).toNat := fun i v7063 k0_hw463 k0_h2 => k0_hw463.1 k0_h2
theorem k0_off1869_inb : ∀ (i : grid0.Coords) (v7063 : BitVec 32) (k0_hw463 : k0_chk463 i v7063), ∀ (k0_h2 : k0_cond2 i = 1#1), ∀ a, (k0_off1869 v7063) a + S8x128.size a ≤ S131072x128.size a := fun i v7063 k0_hw463 k0_h2 => k0_hw463.2 k0_h2

def k0_off1870 (i : grid0.Coords) : Fin 3 → Nat :=
  let c0_4435 : Index := 0#32
  let c0_4436 : Index := 0#32
  let arg1 : BitVec 32 := BitVec.ofNat 32 (i 1).val
  let c2_i32_4430 : BitVec 32 := 2#32
  let v7072 : BitVec 32 := Scalar.muli arg1 c2_i32_4430
  let c1_i32_4431 : BitVec 32 := 1#32
  let v7073 : BitVec 32 := Scalar.addi v7072 c1_i32_4431
  let c256_i32_4432 : BitVec 32 := 256#32
  let v7074 : BitVec 32 := Scalar.muli v7073 c256_i32_4432
  let c206_i32_4433 : BitVec 32 := 206#32
  let v7075 : BitVec 32 := Scalar.addi v7074 c206_i32_4433
  let v7077 : Index := Scalar.indexCast v7075
  ![0, 0, v7077.toNat]
def k0_mult927 (v7078 : BitVec 32) : BitVec 32 :=
  v7078

def k0_mult928 (i : grid0.Coords) : BitVec 32 :=
  let arg1 : BitVec 32 := BitVec.ofNat 32 (i 1).val
  let c2_i32_4430 : BitVec 32 := 2#32
  let v7072 : BitVec 32 := Scalar.muli arg1 c2_i32_4430
  let c1_i32_4431 : BitVec 32 := 1#32
  let v7073 : BitVec 32 := Scalar.addi v7072 c1_i32_4431
  let c256_i32_4432 : BitVec 32 := 256#32
  let v7074 : BitVec 32 := Scalar.muli v7073 c256_i32_4432
  let c206_i32_4433 : BitVec 32 := 206#32
  let v7075 : BitVec 32 := Scalar.addi v7074 c206_i32_4433
  let c8_i32_4437 : BitVec 32 := 8#32
  let v7080 : BitVec 32 := Scalar.muli v7075 c8_i32_4437
  v7080
def k0_off1871 (i : grid0.Coords) : Fin 1 → Nat :=
  let c1_i32_4434 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7076 : BitVec 32 := Scalar.subi c1_i32_4434 v9
  ![v7076.toNat]
def k0_off1872 (i : grid0.Coords) : Fin 3 → Nat :=
  let c1_i32_4434 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7076 : BitVec 32 := Scalar.subi c1_i32_4434 v9
  let arg1 : BitVec 32 := BitVec.ofNat 32 (i 1).val
  let c2_i32_4430 : BitVec 32 := 2#32
  let v7072 : BitVec 32 := Scalar.muli arg1 c2_i32_4430
  let c1_i32_4431 : BitVec 32 := 1#32
  let v7073 : BitVec 32 := Scalar.addi v7072 c1_i32_4431
  let c256_i32_4432 : BitVec 32 := 256#32
  let v7074 : BitVec 32 := Scalar.muli v7073 c256_i32_4432
  let c206_i32_4433 : BitVec 32 := 206#32
  let v7075 : BitVec 32 := Scalar.addi v7074 c206_i32_4433
  let c8_i32_4437 : BitVec 32 := 8#32
  let v7080 : BitVec 32 := Scalar.muli v7075 c8_i32_4437
  let v7081 : BitVec 32 := v7080
  let c0_i32_4438 : BitVec 32 := 0#32
  ![v7076.toNat, v7081.toNat, 0]
def k0_off1873 (v7078 : BitVec 32) : Fin 2 → Nat :=
  let v7079 : BitVec 32 := v7078
  let c0_i32_4439 : BitVec 32 := 0#32
  ![v7079.toNat, 0]

def k0_chk464 (i : grid0.Coords) (v7078 : BitVec 32) : Prop :=
  (∀ (k0_h2 : k0_cond2 i = 1#1), 8 ∣ (k0_mult927 v7078).toNat) ∧
  (∀ (k0_h2 : k0_cond2 i = 1#1), ∀ a, (k0_off1873 v7078) a + S8x128.size a ≤ S131072x128.size a)
theorem k0_mult927_dvd : ∀ (i : grid0.Coords) (v7078 : BitVec 32) (k0_hw464 : k0_chk464 i v7078), ∀ (k0_h2 : k0_cond2 i = 1#1), 8 ∣ (k0_mult927 v7078).toNat := fun i v7078 k0_hw464 k0_h2 => k0_hw464.1 k0_h2
theorem k0_off1873_inb : ∀ (i : grid0.Coords) (v7078 : BitVec 32) (k0_hw464 : k0_chk464 i v7078), ∀ (k0_h2 : k0_cond2 i = 1#1), ∀ a, (k0_off1873 v7078) a + S8x128.size a ≤ S131072x128.size a := fun i v7078 k0_hw464 k0_h2 => k0_hw464.2 k0_h2

def k0_off1874 (i : grid0.Coords) : Fin 3 → Nat :=
  let c0_4445 : Index := 0#32
  let c0_4446 : Index := 0#32
  let arg1 : BitVec 32 := BitVec.ofNat 32 (i 1).val
  let c2_i32_4440 : BitVec 32 := 2#32
  let v7087 : BitVec 32 := Scalar.muli arg1 c2_i32_4440
  let c1_i32_4441 : BitVec 32 := 1#32
  let v7088 : BitVec 32 := Scalar.addi v7087 c1_i32_4441
  let c256_i32_4442 : BitVec 32 := 256#32
  let v7089 : BitVec 32 := Scalar.muli v7088 c256_i32_4442
  let c207_i32_4443 : BitVec 32 := 207#32
  let v7090 : BitVec 32 := Scalar.addi v7089 c207_i32_4443
  let v7092 : Index := Scalar.indexCast v7090
  ![0, 0, v7092.toNat]
def k0_mult929 (v7093 : BitVec 32) : BitVec 32 :=
  v7093

def k0_mult930 (i : grid0.Coords) : BitVec 32 :=
  let arg1 : BitVec 32 := BitVec.ofNat 32 (i 1).val
  let c2_i32_4440 : BitVec 32 := 2#32
  let v7087 : BitVec 32 := Scalar.muli arg1 c2_i32_4440
  let c1_i32_4441 : BitVec 32 := 1#32
  let v7088 : BitVec 32 := Scalar.addi v7087 c1_i32_4441
  let c256_i32_4442 : BitVec 32 := 256#32
  let v7089 : BitVec 32 := Scalar.muli v7088 c256_i32_4442
  let c207_i32_4443 : BitVec 32 := 207#32
  let v7090 : BitVec 32 := Scalar.addi v7089 c207_i32_4443
  let c8_i32_4447 : BitVec 32 := 8#32
  let v7095 : BitVec 32 := Scalar.muli v7090 c8_i32_4447
  v7095
def k0_off1875 (i : grid0.Coords) : Fin 1 → Nat :=
  let c1_i32_4444 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7091 : BitVec 32 := Scalar.subi c1_i32_4444 v9
  ![v7091.toNat]
def k0_off1876 (i : grid0.Coords) : Fin 3 → Nat :=
  let c1_i32_4444 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7091 : BitVec 32 := Scalar.subi c1_i32_4444 v9
  let arg1 : BitVec 32 := BitVec.ofNat 32 (i 1).val
  let c2_i32_4440 : BitVec 32 := 2#32
  let v7087 : BitVec 32 := Scalar.muli arg1 c2_i32_4440
  let c1_i32_4441 : BitVec 32 := 1#32
  let v7088 : BitVec 32 := Scalar.addi v7087 c1_i32_4441
  let c256_i32_4442 : BitVec 32 := 256#32
  let v7089 : BitVec 32 := Scalar.muli v7088 c256_i32_4442
  let c207_i32_4443 : BitVec 32 := 207#32
  let v7090 : BitVec 32 := Scalar.addi v7089 c207_i32_4443
  let c8_i32_4447 : BitVec 32 := 8#32
  let v7095 : BitVec 32 := Scalar.muli v7090 c8_i32_4447
  let v7096 : BitVec 32 := v7095
  let c0_i32_4448 : BitVec 32 := 0#32
  ![v7091.toNat, v7096.toNat, 0]
def k0_off1877 (v7093 : BitVec 32) : Fin 2 → Nat :=
  let v7094 : BitVec 32 := v7093
  let c0_i32_4449 : BitVec 32 := 0#32
  ![v7094.toNat, 0]

def k0_chk465 (i : grid0.Coords) (v7093 : BitVec 32) : Prop :=
  (∀ (k0_h2 : k0_cond2 i = 1#1), 8 ∣ (k0_mult929 v7093).toNat) ∧
  (∀ (k0_h2 : k0_cond2 i = 1#1), ∀ a, (k0_off1877 v7093) a + S8x128.size a ≤ S131072x128.size a)
theorem k0_mult929_dvd : ∀ (i : grid0.Coords) (v7093 : BitVec 32) (k0_hw465 : k0_chk465 i v7093), ∀ (k0_h2 : k0_cond2 i = 1#1), 8 ∣ (k0_mult929 v7093).toNat := fun i v7093 k0_hw465 k0_h2 => k0_hw465.1 k0_h2
theorem k0_off1877_inb : ∀ (i : grid0.Coords) (v7093 : BitVec 32) (k0_hw465 : k0_chk465 i v7093), ∀ (k0_h2 : k0_cond2 i = 1#1), ∀ a, (k0_off1877 v7093) a + S8x128.size a ≤ S131072x128.size a := fun i v7093 k0_hw465 k0_h2 => k0_hw465.2 k0_h2

def k0_off1878 (i : grid0.Coords) : Fin 3 → Nat :=
  let c0_4455 : Index := 0#32
  let c0_4456 : Index := 0#32
  let arg1 : BitVec 32 := BitVec.ofNat 32 (i 1).val
  let c2_i32_4450 : BitVec 32 := 2#32
  let v7102 : BitVec 32 := Scalar.muli arg1 c2_i32_4450
  let c1_i32_4451 : BitVec 32 := 1#32
  let v7103 : BitVec 32 := Scalar.addi v7102 c1_i32_4451
  let c256_i32_4452 : BitVec 32 := 256#32
  let v7104 : BitVec 32 := Scalar.muli v7103 c256_i32_4452
  let c208_i32_4453 : BitVec 32 := 208#32
  let v7105 : BitVec 32 := Scalar.addi v7104 c208_i32_4453
  let v7107 : Index := Scalar.indexCast v7105
  ![0, 0, v7107.toNat]
def k0_mult931 (v7108 : BitVec 32) : BitVec 32 :=
  v7108

def k0_mult932 (i : grid0.Coords) : BitVec 32 :=
  let arg1 : BitVec 32 := BitVec.ofNat 32 (i 1).val
  let c2_i32_4450 : BitVec 32 := 2#32
  let v7102 : BitVec 32 := Scalar.muli arg1 c2_i32_4450
  let c1_i32_4451 : BitVec 32 := 1#32
  let v7103 : BitVec 32 := Scalar.addi v7102 c1_i32_4451
  let c256_i32_4452 : BitVec 32 := 256#32
  let v7104 : BitVec 32 := Scalar.muli v7103 c256_i32_4452
  let c208_i32_4453 : BitVec 32 := 208#32
  let v7105 : BitVec 32 := Scalar.addi v7104 c208_i32_4453
  let c8_i32_4457 : BitVec 32 := 8#32
  let v7110 : BitVec 32 := Scalar.muli v7105 c8_i32_4457
  v7110
def k0_off1879 (i : grid0.Coords) : Fin 1 → Nat :=
  let c1_i32_4454 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7106 : BitVec 32 := Scalar.subi c1_i32_4454 v9
  ![v7106.toNat]
def k0_off1880 (i : grid0.Coords) : Fin 3 → Nat :=
  let c1_i32_4454 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7106 : BitVec 32 := Scalar.subi c1_i32_4454 v9
  let arg1 : BitVec 32 := BitVec.ofNat 32 (i 1).val
  let c2_i32_4450 : BitVec 32 := 2#32
  let v7102 : BitVec 32 := Scalar.muli arg1 c2_i32_4450
  let c1_i32_4451 : BitVec 32 := 1#32
  let v7103 : BitVec 32 := Scalar.addi v7102 c1_i32_4451
  let c256_i32_4452 : BitVec 32 := 256#32
  let v7104 : BitVec 32 := Scalar.muli v7103 c256_i32_4452
  let c208_i32_4453 : BitVec 32 := 208#32
  let v7105 : BitVec 32 := Scalar.addi v7104 c208_i32_4453
  let c8_i32_4457 : BitVec 32 := 8#32
  let v7110 : BitVec 32 := Scalar.muli v7105 c8_i32_4457
  let v7111 : BitVec 32 := v7110
  let c0_i32_4458 : BitVec 32 := 0#32
  ![v7106.toNat, v7111.toNat, 0]
def k0_off1881 (v7108 : BitVec 32) : Fin 2 → Nat :=
  let v7109 : BitVec 32 := v7108
  let c0_i32_4459 : BitVec 32 := 0#32
  ![v7109.toNat, 0]

def k0_chk466 (i : grid0.Coords) (v7108 : BitVec 32) : Prop :=
  (∀ (k0_h2 : k0_cond2 i = 1#1), 8 ∣ (k0_mult931 v7108).toNat) ∧
  (∀ (k0_h2 : k0_cond2 i = 1#1), ∀ a, (k0_off1881 v7108) a + S8x128.size a ≤ S131072x128.size a)
theorem k0_mult931_dvd : ∀ (i : grid0.Coords) (v7108 : BitVec 32) (k0_hw466 : k0_chk466 i v7108), ∀ (k0_h2 : k0_cond2 i = 1#1), 8 ∣ (k0_mult931 v7108).toNat := fun i v7108 k0_hw466 k0_h2 => k0_hw466.1 k0_h2
theorem k0_off1881_inb : ∀ (i : grid0.Coords) (v7108 : BitVec 32) (k0_hw466 : k0_chk466 i v7108), ∀ (k0_h2 : k0_cond2 i = 1#1), ∀ a, (k0_off1881 v7108) a + S8x128.size a ≤ S131072x128.size a := fun i v7108 k0_hw466 k0_h2 => k0_hw466.2 k0_h2

def k0_off1882 (i : grid0.Coords) : Fin 3 → Nat :=
  let c0_4465 : Index := 0#32
  let c0_4466 : Index := 0#32
  let arg1 : BitVec 32 := BitVec.ofNat 32 (i 1).val
  let c2_i32_4460 : BitVec 32 := 2#32
  let v7117 : BitVec 32 := Scalar.muli arg1 c2_i32_4460
  let c1_i32_4461 : BitVec 32 := 1#32
  let v7118 : BitVec 32 := Scalar.addi v7117 c1_i32_4461
  let c256_i32_4462 : BitVec 32 := 256#32
  let v7119 : BitVec 32 := Scalar.muli v7118 c256_i32_4462
  let c209_i32_4463 : BitVec 32 := 209#32
  let v7120 : BitVec 32 := Scalar.addi v7119 c209_i32_4463
  let v7122 : Index := Scalar.indexCast v7120
  ![0, 0, v7122.toNat]
def k0_mult933 (v7123 : BitVec 32) : BitVec 32 :=
  v7123

def k0_mult934 (i : grid0.Coords) : BitVec 32 :=
  let arg1 : BitVec 32 := BitVec.ofNat 32 (i 1).val
  let c2_i32_4460 : BitVec 32 := 2#32
  let v7117 : BitVec 32 := Scalar.muli arg1 c2_i32_4460
  let c1_i32_4461 : BitVec 32 := 1#32
  let v7118 : BitVec 32 := Scalar.addi v7117 c1_i32_4461
  let c256_i32_4462 : BitVec 32 := 256#32
  let v7119 : BitVec 32 := Scalar.muli v7118 c256_i32_4462
  let c209_i32_4463 : BitVec 32 := 209#32
  let v7120 : BitVec 32 := Scalar.addi v7119 c209_i32_4463
  let c8_i32_4467 : BitVec 32 := 8#32
  let v7125 : BitVec 32 := Scalar.muli v7120 c8_i32_4467
  v7125
def k0_off1883 (i : grid0.Coords) : Fin 1 → Nat :=
  let c1_i32_4464 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7121 : BitVec 32 := Scalar.subi c1_i32_4464 v9
  ![v7121.toNat]
def k0_off1884 (i : grid0.Coords) : Fin 3 → Nat :=
  let c1_i32_4464 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7121 : BitVec 32 := Scalar.subi c1_i32_4464 v9
  let arg1 : BitVec 32 := BitVec.ofNat 32 (i 1).val
  let c2_i32_4460 : BitVec 32 := 2#32
  let v7117 : BitVec 32 := Scalar.muli arg1 c2_i32_4460
  let c1_i32_4461 : BitVec 32 := 1#32
  let v7118 : BitVec 32 := Scalar.addi v7117 c1_i32_4461
  let c256_i32_4462 : BitVec 32 := 256#32
  let v7119 : BitVec 32 := Scalar.muli v7118 c256_i32_4462
  let c209_i32_4463 : BitVec 32 := 209#32
  let v7120 : BitVec 32 := Scalar.addi v7119 c209_i32_4463
  let c8_i32_4467 : BitVec 32 := 8#32
  let v7125 : BitVec 32 := Scalar.muli v7120 c8_i32_4467
  let v7126 : BitVec 32 := v7125
  let c0_i32_4468 : BitVec 32 := 0#32
  ![v7121.toNat, v7126.toNat, 0]
def k0_off1885 (v7123 : BitVec 32) : Fin 2 → Nat :=
  let v7124 : BitVec 32 := v7123
  let c0_i32_4469 : BitVec 32 := 0#32
  ![v7124.toNat, 0]

def k0_chk467 (i : grid0.Coords) (v7123 : BitVec 32) : Prop :=
  (∀ (k0_h2 : k0_cond2 i = 1#1), 8 ∣ (k0_mult933 v7123).toNat) ∧
  (∀ (k0_h2 : k0_cond2 i = 1#1), ∀ a, (k0_off1885 v7123) a + S8x128.size a ≤ S131072x128.size a)
theorem k0_mult933_dvd : ∀ (i : grid0.Coords) (v7123 : BitVec 32) (k0_hw467 : k0_chk467 i v7123), ∀ (k0_h2 : k0_cond2 i = 1#1), 8 ∣ (k0_mult933 v7123).toNat := fun i v7123 k0_hw467 k0_h2 => k0_hw467.1 k0_h2
theorem k0_off1885_inb : ∀ (i : grid0.Coords) (v7123 : BitVec 32) (k0_hw467 : k0_chk467 i v7123), ∀ (k0_h2 : k0_cond2 i = 1#1), ∀ a, (k0_off1885 v7123) a + S8x128.size a ≤ S131072x128.size a := fun i v7123 k0_hw467 k0_h2 => k0_hw467.2 k0_h2

def k0_off1886 (i : grid0.Coords) : Fin 3 → Nat :=
  let c0_4475 : Index := 0#32
  let c0_4476 : Index := 0#32
  let arg1 : BitVec 32 := BitVec.ofNat 32 (i 1).val
  let c2_i32_4470 : BitVec 32 := 2#32
  let v7132 : BitVec 32 := Scalar.muli arg1 c2_i32_4470
  let c1_i32_4471 : BitVec 32 := 1#32
  let v7133 : BitVec 32 := Scalar.addi v7132 c1_i32_4471
  let c256_i32_4472 : BitVec 32 := 256#32
  let v7134 : BitVec 32 := Scalar.muli v7133 c256_i32_4472
  let c210_i32_4473 : BitVec 32 := 210#32
  let v7135 : BitVec 32 := Scalar.addi v7134 c210_i32_4473
  let v7137 : Index := Scalar.indexCast v7135
  ![0, 0, v7137.toNat]
def k0_mult935 (v7138 : BitVec 32) : BitVec 32 :=
  v7138

def k0_mult936 (i : grid0.Coords) : BitVec 32 :=
  let arg1 : BitVec 32 := BitVec.ofNat 32 (i 1).val
  let c2_i32_4470 : BitVec 32 := 2#32
  let v7132 : BitVec 32 := Scalar.muli arg1 c2_i32_4470
  let c1_i32_4471 : BitVec 32 := 1#32
  let v7133 : BitVec 32 := Scalar.addi v7132 c1_i32_4471
  let c256_i32_4472 : BitVec 32 := 256#32
  let v7134 : BitVec 32 := Scalar.muli v7133 c256_i32_4472
  let c210_i32_4473 : BitVec 32 := 210#32
  let v7135 : BitVec 32 := Scalar.addi v7134 c210_i32_4473
  let c8_i32_4477 : BitVec 32 := 8#32
  let v7140 : BitVec 32 := Scalar.muli v7135 c8_i32_4477
  v7140
def k0_off1887 (i : grid0.Coords) : Fin 1 → Nat :=
  let c1_i32_4474 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7136 : BitVec 32 := Scalar.subi c1_i32_4474 v9
  ![v7136.toNat]
def k0_off1888 (i : grid0.Coords) : Fin 3 → Nat :=
  let c1_i32_4474 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7136 : BitVec 32 := Scalar.subi c1_i32_4474 v9
  let arg1 : BitVec 32 := BitVec.ofNat 32 (i 1).val
  let c2_i32_4470 : BitVec 32 := 2#32
  let v7132 : BitVec 32 := Scalar.muli arg1 c2_i32_4470
  let c1_i32_4471 : BitVec 32 := 1#32
  let v7133 : BitVec 32 := Scalar.addi v7132 c1_i32_4471
  let c256_i32_4472 : BitVec 32 := 256#32
  let v7134 : BitVec 32 := Scalar.muli v7133 c256_i32_4472
  let c210_i32_4473 : BitVec 32 := 210#32
  let v7135 : BitVec 32 := Scalar.addi v7134 c210_i32_4473
  let c8_i32_4477 : BitVec 32 := 8#32
  let v7140 : BitVec 32 := Scalar.muli v7135 c8_i32_4477
  let v7141 : BitVec 32 := v7140
  let c0_i32_4478 : BitVec 32 := 0#32
  ![v7136.toNat, v7141.toNat, 0]
def k0_off1889 (v7138 : BitVec 32) : Fin 2 → Nat :=
  let v7139 : BitVec 32 := v7138
  let c0_i32_4479 : BitVec 32 := 0#32
  ![v7139.toNat, 0]

def k0_chk468 (i : grid0.Coords) (v7138 : BitVec 32) : Prop :=
  (∀ (k0_h2 : k0_cond2 i = 1#1), 8 ∣ (k0_mult935 v7138).toNat) ∧
  (∀ (k0_h2 : k0_cond2 i = 1#1), ∀ a, (k0_off1889 v7138) a + S8x128.size a ≤ S131072x128.size a)
theorem k0_mult935_dvd : ∀ (i : grid0.Coords) (v7138 : BitVec 32) (k0_hw468 : k0_chk468 i v7138), ∀ (k0_h2 : k0_cond2 i = 1#1), 8 ∣ (k0_mult935 v7138).toNat := fun i v7138 k0_hw468 k0_h2 => k0_hw468.1 k0_h2
theorem k0_off1889_inb : ∀ (i : grid0.Coords) (v7138 : BitVec 32) (k0_hw468 : k0_chk468 i v7138), ∀ (k0_h2 : k0_cond2 i = 1#1), ∀ a, (k0_off1889 v7138) a + S8x128.size a ≤ S131072x128.size a := fun i v7138 k0_hw468 k0_h2 => k0_hw468.2 k0_h2

def k0_off1890 (i : grid0.Coords) : Fin 3 → Nat :=
  let c0_4485 : Index := 0#32
  let c0_4486 : Index := 0#32
  let arg1 : BitVec 32 := BitVec.ofNat 32 (i 1).val
  let c2_i32_4480 : BitVec 32 := 2#32
  let v7147 : BitVec 32 := Scalar.muli arg1 c2_i32_4480
  let c1_i32_4481 : BitVec 32 := 1#32
  let v7148 : BitVec 32 := Scalar.addi v7147 c1_i32_4481
  let c256_i32_4482 : BitVec 32 := 256#32
  let v7149 : BitVec 32 := Scalar.muli v7148 c256_i32_4482
  let c211_i32_4483 : BitVec 32 := 211#32
  let v7150 : BitVec 32 := Scalar.addi v7149 c211_i32_4483
  let v7152 : Index := Scalar.indexCast v7150
  ![0, 0, v7152.toNat]
def k0_mult937 (v7153 : BitVec 32) : BitVec 32 :=
  v7153

def k0_mult938 (i : grid0.Coords) : BitVec 32 :=
  let arg1 : BitVec 32 := BitVec.ofNat 32 (i 1).val
  let c2_i32_4480 : BitVec 32 := 2#32
  let v7147 : BitVec 32 := Scalar.muli arg1 c2_i32_4480
  let c1_i32_4481 : BitVec 32 := 1#32
  let v7148 : BitVec 32 := Scalar.addi v7147 c1_i32_4481
  let c256_i32_4482 : BitVec 32 := 256#32
  let v7149 : BitVec 32 := Scalar.muli v7148 c256_i32_4482
  let c211_i32_4483 : BitVec 32 := 211#32
  let v7150 : BitVec 32 := Scalar.addi v7149 c211_i32_4483
  let c8_i32_4487 : BitVec 32 := 8#32
  let v7155 : BitVec 32 := Scalar.muli v7150 c8_i32_4487
  v7155
def k0_off1891 (i : grid0.Coords) : Fin 1 → Nat :=
  let c1_i32_4484 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7151 : BitVec 32 := Scalar.subi c1_i32_4484 v9
  ![v7151.toNat]
def k0_off1892 (i : grid0.Coords) : Fin 3 → Nat :=
  let c1_i32_4484 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7151 : BitVec 32 := Scalar.subi c1_i32_4484 v9
  let arg1 : BitVec 32 := BitVec.ofNat 32 (i 1).val
  let c2_i32_4480 : BitVec 32 := 2#32
  let v7147 : BitVec 32 := Scalar.muli arg1 c2_i32_4480
  let c1_i32_4481 : BitVec 32 := 1#32
  let v7148 : BitVec 32 := Scalar.addi v7147 c1_i32_4481
  let c256_i32_4482 : BitVec 32 := 256#32
  let v7149 : BitVec 32 := Scalar.muli v7148 c256_i32_4482
  let c211_i32_4483 : BitVec 32 := 211#32
  let v7150 : BitVec 32 := Scalar.addi v7149 c211_i32_4483
  let c8_i32_4487 : BitVec 32 := 8#32
  let v7155 : BitVec 32 := Scalar.muli v7150 c8_i32_4487
  let v7156 : BitVec 32 := v7155
  let c0_i32_4488 : BitVec 32 := 0#32
  ![v7151.toNat, v7156.toNat, 0]
def k0_off1893 (v7153 : BitVec 32) : Fin 2 → Nat :=
  let v7154 : BitVec 32 := v7153
  let c0_i32_4489 : BitVec 32 := 0#32
  ![v7154.toNat, 0]

def k0_chk469 (i : grid0.Coords) (v7153 : BitVec 32) : Prop :=
  (∀ (k0_h2 : k0_cond2 i = 1#1), 8 ∣ (k0_mult937 v7153).toNat) ∧
  (∀ (k0_h2 : k0_cond2 i = 1#1), ∀ a, (k0_off1893 v7153) a + S8x128.size a ≤ S131072x128.size a)
theorem k0_mult937_dvd : ∀ (i : grid0.Coords) (v7153 : BitVec 32) (k0_hw469 : k0_chk469 i v7153), ∀ (k0_h2 : k0_cond2 i = 1#1), 8 ∣ (k0_mult937 v7153).toNat := fun i v7153 k0_hw469 k0_h2 => k0_hw469.1 k0_h2
theorem k0_off1893_inb : ∀ (i : grid0.Coords) (v7153 : BitVec 32) (k0_hw469 : k0_chk469 i v7153), ∀ (k0_h2 : k0_cond2 i = 1#1), ∀ a, (k0_off1893 v7153) a + S8x128.size a ≤ S131072x128.size a := fun i v7153 k0_hw469 k0_h2 => k0_hw469.2 k0_h2

def k0_off1894 (i : grid0.Coords) : Fin 3 → Nat :=
  let c0_4495 : Index := 0#32
  let c0_4496 : Index := 0#32
  let arg1 : BitVec 32 := BitVec.ofNat 32 (i 1).val
  let c2_i32_4490 : BitVec 32 := 2#32
  let v7162 : BitVec 32 := Scalar.muli arg1 c2_i32_4490
  let c1_i32_4491 : BitVec 32 := 1#32
  let v7163 : BitVec 32 := Scalar.addi v7162 c1_i32_4491
  let c256_i32_4492 : BitVec 32 := 256#32
  let v7164 : BitVec 32 := Scalar.muli v7163 c256_i32_4492
  let c212_i32_4493 : BitVec 32 := 212#32
  let v7165 : BitVec 32 := Scalar.addi v7164 c212_i32_4493
  let v7167 : Index := Scalar.indexCast v7165
  ![0, 0, v7167.toNat]
def k0_mult939 (v7168 : BitVec 32) : BitVec 32 :=
  v7168

def k0_mult940 (i : grid0.Coords) : BitVec 32 :=
  let arg1 : BitVec 32 := BitVec.ofNat 32 (i 1).val
  let c2_i32_4490 : BitVec 32 := 2#32
  let v7162 : BitVec 32 := Scalar.muli arg1 c2_i32_4490
  let c1_i32_4491 : BitVec 32 := 1#32
  let v7163 : BitVec 32 := Scalar.addi v7162 c1_i32_4491
  let c256_i32_4492 : BitVec 32 := 256#32
  let v7164 : BitVec 32 := Scalar.muli v7163 c256_i32_4492
  let c212_i32_4493 : BitVec 32 := 212#32
  let v7165 : BitVec 32 := Scalar.addi v7164 c212_i32_4493
  let c8_i32_4497 : BitVec 32 := 8#32
  let v7170 : BitVec 32 := Scalar.muli v7165 c8_i32_4497
  v7170
def k0_off1895 (i : grid0.Coords) : Fin 1 → Nat :=
  let c1_i32_4494 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7166 : BitVec 32 := Scalar.subi c1_i32_4494 v9
  ![v7166.toNat]
def k0_off1896 (i : grid0.Coords) : Fin 3 → Nat :=
  let c1_i32_4494 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7166 : BitVec 32 := Scalar.subi c1_i32_4494 v9
  let arg1 : BitVec 32 := BitVec.ofNat 32 (i 1).val
  let c2_i32_4490 : BitVec 32 := 2#32
  let v7162 : BitVec 32 := Scalar.muli arg1 c2_i32_4490
  let c1_i32_4491 : BitVec 32 := 1#32
  let v7163 : BitVec 32 := Scalar.addi v7162 c1_i32_4491
  let c256_i32_4492 : BitVec 32 := 256#32
  let v7164 : BitVec 32 := Scalar.muli v7163 c256_i32_4492
  let c212_i32_4493 : BitVec 32 := 212#32
  let v7165 : BitVec 32 := Scalar.addi v7164 c212_i32_4493
  let c8_i32_4497 : BitVec 32 := 8#32
  let v7170 : BitVec 32 := Scalar.muli v7165 c8_i32_4497
  let v7171 : BitVec 32 := v7170
  let c0_i32_4498 : BitVec 32 := 0#32
  ![v7166.toNat, v7171.toNat, 0]
def k0_off1897 (v7168 : BitVec 32) : Fin 2 → Nat :=
  let v7169 : BitVec 32 := v7168
  let c0_i32_4499 : BitVec 32 := 0#32
  ![v7169.toNat, 0]

def k0_chk470 (i : grid0.Coords) (v7168 : BitVec 32) : Prop :=
  (∀ (k0_h2 : k0_cond2 i = 1#1), 8 ∣ (k0_mult939 v7168).toNat) ∧
  (∀ (k0_h2 : k0_cond2 i = 1#1), ∀ a, (k0_off1897 v7168) a + S8x128.size a ≤ S131072x128.size a)
theorem k0_mult939_dvd : ∀ (i : grid0.Coords) (v7168 : BitVec 32) (k0_hw470 : k0_chk470 i v7168), ∀ (k0_h2 : k0_cond2 i = 1#1), 8 ∣ (k0_mult939 v7168).toNat := fun i v7168 k0_hw470 k0_h2 => k0_hw470.1 k0_h2
theorem k0_off1897_inb : ∀ (i : grid0.Coords) (v7168 : BitVec 32) (k0_hw470 : k0_chk470 i v7168), ∀ (k0_h2 : k0_cond2 i = 1#1), ∀ a, (k0_off1897 v7168) a + S8x128.size a ≤ S131072x128.size a := fun i v7168 k0_hw470 k0_h2 => k0_hw470.2 k0_h2

def k0_off1898 (i : grid0.Coords) : Fin 3 → Nat :=
  let c0_4505 : Index := 0#32
  let c0_4506 : Index := 0#32
  let arg1 : BitVec 32 := BitVec.ofNat 32 (i 1).val
  let c2_i32_4500 : BitVec 32 := 2#32
  let v7177 : BitVec 32 := Scalar.muli arg1 c2_i32_4500
  let c1_i32_4501 : BitVec 32 := 1#32
  let v7178 : BitVec 32 := Scalar.addi v7177 c1_i32_4501
  let c256_i32_4502 : BitVec 32 := 256#32
  let v7179 : BitVec 32 := Scalar.muli v7178 c256_i32_4502
  let c213_i32_4503 : BitVec 32 := 213#32
  let v7180 : BitVec 32 := Scalar.addi v7179 c213_i32_4503
  let v7182 : Index := Scalar.indexCast v7180
  ![0, 0, v7182.toNat]
def k0_mult941 (v7183 : BitVec 32) : BitVec 32 :=
  v7183

def k0_mult942 (i : grid0.Coords) : BitVec 32 :=
  let arg1 : BitVec 32 := BitVec.ofNat 32 (i 1).val
  let c2_i32_4500 : BitVec 32 := 2#32
  let v7177 : BitVec 32 := Scalar.muli arg1 c2_i32_4500
  let c1_i32_4501 : BitVec 32 := 1#32
  let v7178 : BitVec 32 := Scalar.addi v7177 c1_i32_4501
  let c256_i32_4502 : BitVec 32 := 256#32
  let v7179 : BitVec 32 := Scalar.muli v7178 c256_i32_4502
  let c213_i32_4503 : BitVec 32 := 213#32
  let v7180 : BitVec 32 := Scalar.addi v7179 c213_i32_4503
  let c8_i32_4507 : BitVec 32 := 8#32
  let v7185 : BitVec 32 := Scalar.muli v7180 c8_i32_4507
  v7185
def k0_off1899 (i : grid0.Coords) : Fin 1 → Nat :=
  let c1_i32_4504 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7181 : BitVec 32 := Scalar.subi c1_i32_4504 v9
  ![v7181.toNat]
def k0_off1900 (i : grid0.Coords) : Fin 3 → Nat :=
  let c1_i32_4504 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7181 : BitVec 32 := Scalar.subi c1_i32_4504 v9
  let arg1 : BitVec 32 := BitVec.ofNat 32 (i 1).val
  let c2_i32_4500 : BitVec 32 := 2#32
  let v7177 : BitVec 32 := Scalar.muli arg1 c2_i32_4500
  let c1_i32_4501 : BitVec 32 := 1#32
  let v7178 : BitVec 32 := Scalar.addi v7177 c1_i32_4501
  let c256_i32_4502 : BitVec 32 := 256#32
  let v7179 : BitVec 32 := Scalar.muli v7178 c256_i32_4502
  let c213_i32_4503 : BitVec 32 := 213#32
  let v7180 : BitVec 32 := Scalar.addi v7179 c213_i32_4503
  let c8_i32_4507 : BitVec 32 := 8#32
  let v7185 : BitVec 32 := Scalar.muli v7180 c8_i32_4507
  let v7186 : BitVec 32 := v7185
  let c0_i32_4508 : BitVec 32 := 0#32
  ![v7181.toNat, v7186.toNat, 0]
def k0_off1901 (v7183 : BitVec 32) : Fin 2 → Nat :=
  let v7184 : BitVec 32 := v7183
  let c0_i32_4509 : BitVec 32 := 0#32
  ![v7184.toNat, 0]

def k0_chk471 (i : grid0.Coords) (v7183 : BitVec 32) : Prop :=
  (∀ (k0_h2 : k0_cond2 i = 1#1), 8 ∣ (k0_mult941 v7183).toNat) ∧
  (∀ (k0_h2 : k0_cond2 i = 1#1), ∀ a, (k0_off1901 v7183) a + S8x128.size a ≤ S131072x128.size a)
theorem k0_mult941_dvd : ∀ (i : grid0.Coords) (v7183 : BitVec 32) (k0_hw471 : k0_chk471 i v7183), ∀ (k0_h2 : k0_cond2 i = 1#1), 8 ∣ (k0_mult941 v7183).toNat := fun i v7183 k0_hw471 k0_h2 => k0_hw471.1 k0_h2
theorem k0_off1901_inb : ∀ (i : grid0.Coords) (v7183 : BitVec 32) (k0_hw471 : k0_chk471 i v7183), ∀ (k0_h2 : k0_cond2 i = 1#1), ∀ a, (k0_off1901 v7183) a + S8x128.size a ≤ S131072x128.size a := fun i v7183 k0_hw471 k0_h2 => k0_hw471.2 k0_h2

def k0_off1902 (i : grid0.Coords) : Fin 3 → Nat :=
  let c0_4515 : Index := 0#32
  let c0_4516 : Index := 0#32
  let arg1 : BitVec 32 := BitVec.ofNat 32 (i 1).val
  let c2_i32_4510 : BitVec 32 := 2#32
  let v7192 : BitVec 32 := Scalar.muli arg1 c2_i32_4510
  let c1_i32_4511 : BitVec 32 := 1#32
  let v7193 : BitVec 32 := Scalar.addi v7192 c1_i32_4511
  let c256_i32_4512 : BitVec 32 := 256#32
  let v7194 : BitVec 32 := Scalar.muli v7193 c256_i32_4512
  let c214_i32_4513 : BitVec 32 := 214#32
  let v7195 : BitVec 32 := Scalar.addi v7194 c214_i32_4513
  let v7197 : Index := Scalar.indexCast v7195
  ![0, 0, v7197.toNat]
def k0_mult943 (v7198 : BitVec 32) : BitVec 32 :=
  v7198

def k0_mult944 (i : grid0.Coords) : BitVec 32 :=
  let arg1 : BitVec 32 := BitVec.ofNat 32 (i 1).val
  let c2_i32_4510 : BitVec 32 := 2#32
  let v7192 : BitVec 32 := Scalar.muli arg1 c2_i32_4510
  let c1_i32_4511 : BitVec 32 := 1#32
  let v7193 : BitVec 32 := Scalar.addi v7192 c1_i32_4511
  let c256_i32_4512 : BitVec 32 := 256#32
  let v7194 : BitVec 32 := Scalar.muli v7193 c256_i32_4512
  let c214_i32_4513 : BitVec 32 := 214#32
  let v7195 : BitVec 32 := Scalar.addi v7194 c214_i32_4513
  let c8_i32_4517 : BitVec 32 := 8#32
  let v7200 : BitVec 32 := Scalar.muli v7195 c8_i32_4517
  v7200
def k0_off1903 (i : grid0.Coords) : Fin 1 → Nat :=
  let c1_i32_4514 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7196 : BitVec 32 := Scalar.subi c1_i32_4514 v9
  ![v7196.toNat]
def k0_off1904 (i : grid0.Coords) : Fin 3 → Nat :=
  let c1_i32_4514 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7196 : BitVec 32 := Scalar.subi c1_i32_4514 v9
  let arg1 : BitVec 32 := BitVec.ofNat 32 (i 1).val
  let c2_i32_4510 : BitVec 32 := 2#32
  let v7192 : BitVec 32 := Scalar.muli arg1 c2_i32_4510
  let c1_i32_4511 : BitVec 32 := 1#32
  let v7193 : BitVec 32 := Scalar.addi v7192 c1_i32_4511
  let c256_i32_4512 : BitVec 32 := 256#32
  let v7194 : BitVec 32 := Scalar.muli v7193 c256_i32_4512
  let c214_i32_4513 : BitVec 32 := 214#32
  let v7195 : BitVec 32 := Scalar.addi v7194 c214_i32_4513
  let c8_i32_4517 : BitVec 32 := 8#32
  let v7200 : BitVec 32 := Scalar.muli v7195 c8_i32_4517
  let v7201 : BitVec 32 := v7200
  let c0_i32_4518 : BitVec 32 := 0#32
  ![v7196.toNat, v7201.toNat, 0]
def k0_off1905 (v7198 : BitVec 32) : Fin 2 → Nat :=
  let v7199 : BitVec 32 := v7198
  let c0_i32_4519 : BitVec 32 := 0#32
  ![v7199.toNat, 0]

def k0_chk472 (i : grid0.Coords) (v7198 : BitVec 32) : Prop :=
  (∀ (k0_h2 : k0_cond2 i = 1#1), 8 ∣ (k0_mult943 v7198).toNat) ∧
  (∀ (k0_h2 : k0_cond2 i = 1#1), ∀ a, (k0_off1905 v7198) a + S8x128.size a ≤ S131072x128.size a)
theorem k0_mult943_dvd : ∀ (i : grid0.Coords) (v7198 : BitVec 32) (k0_hw472 : k0_chk472 i v7198), ∀ (k0_h2 : k0_cond2 i = 1#1), 8 ∣ (k0_mult943 v7198).toNat := fun i v7198 k0_hw472 k0_h2 => k0_hw472.1 k0_h2
theorem k0_off1905_inb : ∀ (i : grid0.Coords) (v7198 : BitVec 32) (k0_hw472 : k0_chk472 i v7198), ∀ (k0_h2 : k0_cond2 i = 1#1), ∀ a, (k0_off1905 v7198) a + S8x128.size a ≤ S131072x128.size a := fun i v7198 k0_hw472 k0_h2 => k0_hw472.2 k0_h2

def k0_off1906 (i : grid0.Coords) : Fin 3 → Nat :=
  let c0_4525 : Index := 0#32
  let c0_4526 : Index := 0#32
  let arg1 : BitVec 32 := BitVec.ofNat 32 (i 1).val
  let c2_i32_4520 : BitVec 32 := 2#32
  let v7207 : BitVec 32 := Scalar.muli arg1 c2_i32_4520
  let c1_i32_4521 : BitVec 32 := 1#32
  let v7208 : BitVec 32 := Scalar.addi v7207 c1_i32_4521
  let c256_i32_4522 : BitVec 32 := 256#32
  let v7209 : BitVec 32 := Scalar.muli v7208 c256_i32_4522
  let c215_i32_4523 : BitVec 32 := 215#32
  let v7210 : BitVec 32 := Scalar.addi v7209 c215_i32_4523
  let v7212 : Index := Scalar.indexCast v7210
  ![0, 0, v7212.toNat]
def k0_mult945 (v7213 : BitVec 32) : BitVec 32 :=
  v7213

def k0_mult946 (i : grid0.Coords) : BitVec 32 :=
  let arg1 : BitVec 32 := BitVec.ofNat 32 (i 1).val
  let c2_i32_4520 : BitVec 32 := 2#32
  let v7207 : BitVec 32 := Scalar.muli arg1 c2_i32_4520
  let c1_i32_4521 : BitVec 32 := 1#32
  let v7208 : BitVec 32 := Scalar.addi v7207 c1_i32_4521
  let c256_i32_4522 : BitVec 32 := 256#32
  let v7209 : BitVec 32 := Scalar.muli v7208 c256_i32_4522
  let c215_i32_4523 : BitVec 32 := 215#32
  let v7210 : BitVec 32 := Scalar.addi v7209 c215_i32_4523
  let c8_i32_4527 : BitVec 32 := 8#32
  let v7215 : BitVec 32 := Scalar.muli v7210 c8_i32_4527
  v7215
def k0_off1907 (i : grid0.Coords) : Fin 1 → Nat :=
  let c1_i32_4524 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7211 : BitVec 32 := Scalar.subi c1_i32_4524 v9
  ![v7211.toNat]
def k0_off1908 (i : grid0.Coords) : Fin 3 → Nat :=
  let c1_i32_4524 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7211 : BitVec 32 := Scalar.subi c1_i32_4524 v9
  let arg1 : BitVec 32 := BitVec.ofNat 32 (i 1).val
  let c2_i32_4520 : BitVec 32 := 2#32
  let v7207 : BitVec 32 := Scalar.muli arg1 c2_i32_4520
  let c1_i32_4521 : BitVec 32 := 1#32
  let v7208 : BitVec 32 := Scalar.addi v7207 c1_i32_4521
  let c256_i32_4522 : BitVec 32 := 256#32
  let v7209 : BitVec 32 := Scalar.muli v7208 c256_i32_4522
  let c215_i32_4523 : BitVec 32 := 215#32
  let v7210 : BitVec 32 := Scalar.addi v7209 c215_i32_4523
  let c8_i32_4527 : BitVec 32 := 8#32
  let v7215 : BitVec 32 := Scalar.muli v7210 c8_i32_4527
  let v7216 : BitVec 32 := v7215
  let c0_i32_4528 : BitVec 32 := 0#32
  ![v7211.toNat, v7216.toNat, 0]
def k0_off1909 (v7213 : BitVec 32) : Fin 2 → Nat :=
  let v7214 : BitVec 32 := v7213
  let c0_i32_4529 : BitVec 32 := 0#32
  ![v7214.toNat, 0]

def k0_chk473 (i : grid0.Coords) (v7213 : BitVec 32) : Prop :=
  (∀ (k0_h2 : k0_cond2 i = 1#1), 8 ∣ (k0_mult945 v7213).toNat) ∧
  (∀ (k0_h2 : k0_cond2 i = 1#1), ∀ a, (k0_off1909 v7213) a + S8x128.size a ≤ S131072x128.size a)
theorem k0_mult945_dvd : ∀ (i : grid0.Coords) (v7213 : BitVec 32) (k0_hw473 : k0_chk473 i v7213), ∀ (k0_h2 : k0_cond2 i = 1#1), 8 ∣ (k0_mult945 v7213).toNat := fun i v7213 k0_hw473 k0_h2 => k0_hw473.1 k0_h2
theorem k0_off1909_inb : ∀ (i : grid0.Coords) (v7213 : BitVec 32) (k0_hw473 : k0_chk473 i v7213), ∀ (k0_h2 : k0_cond2 i = 1#1), ∀ a, (k0_off1909 v7213) a + S8x128.size a ≤ S131072x128.size a := fun i v7213 k0_hw473 k0_h2 => k0_hw473.2 k0_h2

def k0_off1910 (i : grid0.Coords) : Fin 3 → Nat :=
  let c0_4535 : Index := 0#32
  let c0_4536 : Index := 0#32
  let arg1 : BitVec 32 := BitVec.ofNat 32 (i 1).val
  let c2_i32_4530 : BitVec 32 := 2#32
  let v7222 : BitVec 32 := Scalar.muli arg1 c2_i32_4530
  let c1_i32_4531 : BitVec 32 := 1#32
  let v7223 : BitVec 32 := Scalar.addi v7222 c1_i32_4531
  let c256_i32_4532 : BitVec 32 := 256#32
  let v7224 : BitVec 32 := Scalar.muli v7223 c256_i32_4532
  let c216_i32_4533 : BitVec 32 := 216#32
  let v7225 : BitVec 32 := Scalar.addi v7224 c216_i32_4533
  let v7227 : Index := Scalar.indexCast v7225
  ![0, 0, v7227.toNat]
def k0_mult947 (v7228 : BitVec 32) : BitVec 32 :=
  v7228

def k0_mult948 (i : grid0.Coords) : BitVec 32 :=
  let arg1 : BitVec 32 := BitVec.ofNat 32 (i 1).val
  let c2_i32_4530 : BitVec 32 := 2#32
  let v7222 : BitVec 32 := Scalar.muli arg1 c2_i32_4530
  let c1_i32_4531 : BitVec 32 := 1#32
  let v7223 : BitVec 32 := Scalar.addi v7222 c1_i32_4531
  let c256_i32_4532 : BitVec 32 := 256#32
  let v7224 : BitVec 32 := Scalar.muli v7223 c256_i32_4532
  let c216_i32_4533 : BitVec 32 := 216#32
  let v7225 : BitVec 32 := Scalar.addi v7224 c216_i32_4533
  let c8_i32_4537 : BitVec 32 := 8#32
  let v7230 : BitVec 32 := Scalar.muli v7225 c8_i32_4537
  v7230
def k0_off1911 (i : grid0.Coords) : Fin 1 → Nat :=
  let c1_i32_4534 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7226 : BitVec 32 := Scalar.subi c1_i32_4534 v9
  ![v7226.toNat]
def k0_off1912 (i : grid0.Coords) : Fin 3 → Nat :=
  let c1_i32_4534 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7226 : BitVec 32 := Scalar.subi c1_i32_4534 v9
  let arg1 : BitVec 32 := BitVec.ofNat 32 (i 1).val
  let c2_i32_4530 : BitVec 32 := 2#32
  let v7222 : BitVec 32 := Scalar.muli arg1 c2_i32_4530
  let c1_i32_4531 : BitVec 32 := 1#32
  let v7223 : BitVec 32 := Scalar.addi v7222 c1_i32_4531
  let c256_i32_4532 : BitVec 32 := 256#32
  let v7224 : BitVec 32 := Scalar.muli v7223 c256_i32_4532
  let c216_i32_4533 : BitVec 32 := 216#32
  let v7225 : BitVec 32 := Scalar.addi v7224 c216_i32_4533
  let c8_i32_4537 : BitVec 32 := 8#32
  let v7230 : BitVec 32 := Scalar.muli v7225 c8_i32_4537
  let v7231 : BitVec 32 := v7230
  let c0_i32_4538 : BitVec 32 := 0#32
  ![v7226.toNat, v7231.toNat, 0]
def k0_off1913 (v7228 : BitVec 32) : Fin 2 → Nat :=
  let v7229 : BitVec 32 := v7228
  let c0_i32_4539 : BitVec 32 := 0#32
  ![v7229.toNat, 0]

def k0_chk474 (i : grid0.Coords) (v7228 : BitVec 32) : Prop :=
  (∀ (k0_h2 : k0_cond2 i = 1#1), 8 ∣ (k0_mult947 v7228).toNat) ∧
  (∀ (k0_h2 : k0_cond2 i = 1#1), ∀ a, (k0_off1913 v7228) a + S8x128.size a ≤ S131072x128.size a)
theorem k0_mult947_dvd : ∀ (i : grid0.Coords) (v7228 : BitVec 32) (k0_hw474 : k0_chk474 i v7228), ∀ (k0_h2 : k0_cond2 i = 1#1), 8 ∣ (k0_mult947 v7228).toNat := fun i v7228 k0_hw474 k0_h2 => k0_hw474.1 k0_h2
theorem k0_off1913_inb : ∀ (i : grid0.Coords) (v7228 : BitVec 32) (k0_hw474 : k0_chk474 i v7228), ∀ (k0_h2 : k0_cond2 i = 1#1), ∀ a, (k0_off1913 v7228) a + S8x128.size a ≤ S131072x128.size a := fun i v7228 k0_hw474 k0_h2 => k0_hw474.2 k0_h2

def k0_off1914 (i : grid0.Coords) : Fin 3 → Nat :=
  let c0_4545 : Index := 0#32
  let c0_4546 : Index := 0#32
  let arg1 : BitVec 32 := BitVec.ofNat 32 (i 1).val
  let c2_i32_4540 : BitVec 32 := 2#32
  let v7237 : BitVec 32 := Scalar.muli arg1 c2_i32_4540
  let c1_i32_4541 : BitVec 32 := 1#32
  let v7238 : BitVec 32 := Scalar.addi v7237 c1_i32_4541
  let c256_i32_4542 : BitVec 32 := 256#32
  let v7239 : BitVec 32 := Scalar.muli v7238 c256_i32_4542
  let c217_i32_4543 : BitVec 32 := 217#32
  let v7240 : BitVec 32 := Scalar.addi v7239 c217_i32_4543
  let v7242 : Index := Scalar.indexCast v7240
  ![0, 0, v7242.toNat]
def k0_mult949 (v7243 : BitVec 32) : BitVec 32 :=
  v7243

def k0_mult950 (i : grid0.Coords) : BitVec 32 :=
  let arg1 : BitVec 32 := BitVec.ofNat 32 (i 1).val
  let c2_i32_4540 : BitVec 32 := 2#32
  let v7237 : BitVec 32 := Scalar.muli arg1 c2_i32_4540
  let c1_i32_4541 : BitVec 32 := 1#32
  let v7238 : BitVec 32 := Scalar.addi v7237 c1_i32_4541
  let c256_i32_4542 : BitVec 32 := 256#32
  let v7239 : BitVec 32 := Scalar.muli v7238 c256_i32_4542
  let c217_i32_4543 : BitVec 32 := 217#32
  let v7240 : BitVec 32 := Scalar.addi v7239 c217_i32_4543
  let c8_i32_4547 : BitVec 32 := 8#32
  let v7245 : BitVec 32 := Scalar.muli v7240 c8_i32_4547
  v7245
def k0_off1915 (i : grid0.Coords) : Fin 1 → Nat :=
  let c1_i32_4544 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7241 : BitVec 32 := Scalar.subi c1_i32_4544 v9
  ![v7241.toNat]
def k0_off1916 (i : grid0.Coords) : Fin 3 → Nat :=
  let c1_i32_4544 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7241 : BitVec 32 := Scalar.subi c1_i32_4544 v9
  let arg1 : BitVec 32 := BitVec.ofNat 32 (i 1).val
  let c2_i32_4540 : BitVec 32 := 2#32
  let v7237 : BitVec 32 := Scalar.muli arg1 c2_i32_4540
  let c1_i32_4541 : BitVec 32 := 1#32
  let v7238 : BitVec 32 := Scalar.addi v7237 c1_i32_4541
  let c256_i32_4542 : BitVec 32 := 256#32
  let v7239 : BitVec 32 := Scalar.muli v7238 c256_i32_4542
  let c217_i32_4543 : BitVec 32 := 217#32
  let v7240 : BitVec 32 := Scalar.addi v7239 c217_i32_4543
  let c8_i32_4547 : BitVec 32 := 8#32
  let v7245 : BitVec 32 := Scalar.muli v7240 c8_i32_4547
  let v7246 : BitVec 32 := v7245
  let c0_i32_4548 : BitVec 32 := 0#32
  ![v7241.toNat, v7246.toNat, 0]
def k0_off1917 (v7243 : BitVec 32) : Fin 2 → Nat :=
  let v7244 : BitVec 32 := v7243
  let c0_i32_4549 : BitVec 32 := 0#32
  ![v7244.toNat, 0]

def k0_chk475 (i : grid0.Coords) (v7243 : BitVec 32) : Prop :=
  (∀ (k0_h2 : k0_cond2 i = 1#1), 8 ∣ (k0_mult949 v7243).toNat) ∧
  (∀ (k0_h2 : k0_cond2 i = 1#1), ∀ a, (k0_off1917 v7243) a + S8x128.size a ≤ S131072x128.size a)
theorem k0_mult949_dvd : ∀ (i : grid0.Coords) (v7243 : BitVec 32) (k0_hw475 : k0_chk475 i v7243), ∀ (k0_h2 : k0_cond2 i = 1#1), 8 ∣ (k0_mult949 v7243).toNat := fun i v7243 k0_hw475 k0_h2 => k0_hw475.1 k0_h2
theorem k0_off1917_inb : ∀ (i : grid0.Coords) (v7243 : BitVec 32) (k0_hw475 : k0_chk475 i v7243), ∀ (k0_h2 : k0_cond2 i = 1#1), ∀ a, (k0_off1917 v7243) a + S8x128.size a ≤ S131072x128.size a := fun i v7243 k0_hw475 k0_h2 => k0_hw475.2 k0_h2

def k0_off1918 (i : grid0.Coords) : Fin 3 → Nat :=
  let c0_4555 : Index := 0#32
  let c0_4556 : Index := 0#32
  let arg1 : BitVec 32 := BitVec.ofNat 32 (i 1).val
  let c2_i32_4550 : BitVec 32 := 2#32
  let v7252 : BitVec 32 := Scalar.muli arg1 c2_i32_4550
  let c1_i32_4551 : BitVec 32 := 1#32
  let v7253 : BitVec 32 := Scalar.addi v7252 c1_i32_4551
  let c256_i32_4552 : BitVec 32 := 256#32
  let v7254 : BitVec 32 := Scalar.muli v7253 c256_i32_4552
  let c218_i32_4553 : BitVec 32 := 218#32
  let v7255 : BitVec 32 := Scalar.addi v7254 c218_i32_4553
  let v7257 : Index := Scalar.indexCast v7255
  ![0, 0, v7257.toNat]
def k0_mult951 (v7258 : BitVec 32) : BitVec 32 :=
  v7258

def k0_mult952 (i : grid0.Coords) : BitVec 32 :=
  let arg1 : BitVec 32 := BitVec.ofNat 32 (i 1).val
  let c2_i32_4550 : BitVec 32 := 2#32
  let v7252 : BitVec 32 := Scalar.muli arg1 c2_i32_4550
  let c1_i32_4551 : BitVec 32 := 1#32
  let v7253 : BitVec 32 := Scalar.addi v7252 c1_i32_4551
  let c256_i32_4552 : BitVec 32 := 256#32
  let v7254 : BitVec 32 := Scalar.muli v7253 c256_i32_4552
  let c218_i32_4553 : BitVec 32 := 218#32
  let v7255 : BitVec 32 := Scalar.addi v7254 c218_i32_4553
  let c8_i32_4557 : BitVec 32 := 8#32
  let v7260 : BitVec 32 := Scalar.muli v7255 c8_i32_4557
  v7260
def k0_off1919 (i : grid0.Coords) : Fin 1 → Nat :=
  let c1_i32_4554 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7256 : BitVec 32 := Scalar.subi c1_i32_4554 v9
  ![v7256.toNat]
def k0_off1920 (i : grid0.Coords) : Fin 3 → Nat :=
  let c1_i32_4554 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7256 : BitVec 32 := Scalar.subi c1_i32_4554 v9
  let arg1 : BitVec 32 := BitVec.ofNat 32 (i 1).val
  let c2_i32_4550 : BitVec 32 := 2#32
  let v7252 : BitVec 32 := Scalar.muli arg1 c2_i32_4550
  let c1_i32_4551 : BitVec 32 := 1#32
  let v7253 : BitVec 32 := Scalar.addi v7252 c1_i32_4551
  let c256_i32_4552 : BitVec 32 := 256#32
  let v7254 : BitVec 32 := Scalar.muli v7253 c256_i32_4552
  let c218_i32_4553 : BitVec 32 := 218#32
  let v7255 : BitVec 32 := Scalar.addi v7254 c218_i32_4553
  let c8_i32_4557 : BitVec 32 := 8#32
  let v7260 : BitVec 32 := Scalar.muli v7255 c8_i32_4557
  let v7261 : BitVec 32 := v7260
  let c0_i32_4558 : BitVec 32 := 0#32
  ![v7256.toNat, v7261.toNat, 0]
def k0_off1921 (v7258 : BitVec 32) : Fin 2 → Nat :=
  let v7259 : BitVec 32 := v7258
  let c0_i32_4559 : BitVec 32 := 0#32
  ![v7259.toNat, 0]

def k0_chk476 (i : grid0.Coords) (v7258 : BitVec 32) : Prop :=
  (∀ (k0_h2 : k0_cond2 i = 1#1), 8 ∣ (k0_mult951 v7258).toNat) ∧
  (∀ (k0_h2 : k0_cond2 i = 1#1), ∀ a, (k0_off1921 v7258) a + S8x128.size a ≤ S131072x128.size a)
theorem k0_mult951_dvd : ∀ (i : grid0.Coords) (v7258 : BitVec 32) (k0_hw476 : k0_chk476 i v7258), ∀ (k0_h2 : k0_cond2 i = 1#1), 8 ∣ (k0_mult951 v7258).toNat := fun i v7258 k0_hw476 k0_h2 => k0_hw476.1 k0_h2
theorem k0_off1921_inb : ∀ (i : grid0.Coords) (v7258 : BitVec 32) (k0_hw476 : k0_chk476 i v7258), ∀ (k0_h2 : k0_cond2 i = 1#1), ∀ a, (k0_off1921 v7258) a + S8x128.size a ≤ S131072x128.size a := fun i v7258 k0_hw476 k0_h2 => k0_hw476.2 k0_h2

def k0_off1922 (i : grid0.Coords) : Fin 3 → Nat :=
  let c0_4565 : Index := 0#32
  let c0_4566 : Index := 0#32
  let arg1 : BitVec 32 := BitVec.ofNat 32 (i 1).val
  let c2_i32_4560 : BitVec 32 := 2#32
  let v7267 : BitVec 32 := Scalar.muli arg1 c2_i32_4560
  let c1_i32_4561 : BitVec 32 := 1#32
  let v7268 : BitVec 32 := Scalar.addi v7267 c1_i32_4561
  let c256_i32_4562 : BitVec 32 := 256#32
  let v7269 : BitVec 32 := Scalar.muli v7268 c256_i32_4562
  let c219_i32_4563 : BitVec 32 := 219#32
  let v7270 : BitVec 32 := Scalar.addi v7269 c219_i32_4563
  let v7272 : Index := Scalar.indexCast v7270
  ![0, 0, v7272.toNat]
def k0_mult953 (v7273 : BitVec 32) : BitVec 32 :=
  v7273

def k0_mult954 (i : grid0.Coords) : BitVec 32 :=
  let arg1 : BitVec 32 := BitVec.ofNat 32 (i 1).val
  let c2_i32_4560 : BitVec 32 := 2#32
  let v7267 : BitVec 32 := Scalar.muli arg1 c2_i32_4560
  let c1_i32_4561 : BitVec 32 := 1#32
  let v7268 : BitVec 32 := Scalar.addi v7267 c1_i32_4561
  let c256_i32_4562 : BitVec 32 := 256#32
  let v7269 : BitVec 32 := Scalar.muli v7268 c256_i32_4562
  let c219_i32_4563 : BitVec 32 := 219#32
  let v7270 : BitVec 32 := Scalar.addi v7269 c219_i32_4563
  let c8_i32_4567 : BitVec 32 := 8#32
  let v7275 : BitVec 32 := Scalar.muli v7270 c8_i32_4567
  v7275
def k0_off1923 (i : grid0.Coords) : Fin 1 → Nat :=
  let c1_i32_4564 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7271 : BitVec 32 := Scalar.subi c1_i32_4564 v9
  ![v7271.toNat]
def k0_off1924 (i : grid0.Coords) : Fin 3 → Nat :=
  let c1_i32_4564 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7271 : BitVec 32 := Scalar.subi c1_i32_4564 v9
  let arg1 : BitVec 32 := BitVec.ofNat 32 (i 1).val
  let c2_i32_4560 : BitVec 32 := 2#32
  let v7267 : BitVec 32 := Scalar.muli arg1 c2_i32_4560
  let c1_i32_4561 : BitVec 32 := 1#32
  let v7268 : BitVec 32 := Scalar.addi v7267 c1_i32_4561
  let c256_i32_4562 : BitVec 32 := 256#32
  let v7269 : BitVec 32 := Scalar.muli v7268 c256_i32_4562
  let c219_i32_4563 : BitVec 32 := 219#32
  let v7270 : BitVec 32 := Scalar.addi v7269 c219_i32_4563
  let c8_i32_4567 : BitVec 32 := 8#32
  let v7275 : BitVec 32 := Scalar.muli v7270 c8_i32_4567
  let v7276 : BitVec 32 := v7275
  let c0_i32_4568 : BitVec 32 := 0#32
  ![v7271.toNat, v7276.toNat, 0]
def k0_off1925 (v7273 : BitVec 32) : Fin 2 → Nat :=
  let v7274 : BitVec 32 := v7273
  let c0_i32_4569 : BitVec 32 := 0#32
  ![v7274.toNat, 0]

def k0_chk477 (i : grid0.Coords) (v7273 : BitVec 32) : Prop :=
  (∀ (k0_h2 : k0_cond2 i = 1#1), 8 ∣ (k0_mult953 v7273).toNat) ∧
  (∀ (k0_h2 : k0_cond2 i = 1#1), ∀ a, (k0_off1925 v7273) a + S8x128.size a ≤ S131072x128.size a)
theorem k0_mult953_dvd : ∀ (i : grid0.Coords) (v7273 : BitVec 32) (k0_hw477 : k0_chk477 i v7273), ∀ (k0_h2 : k0_cond2 i = 1#1), 8 ∣ (k0_mult953 v7273).toNat := fun i v7273 k0_hw477 k0_h2 => k0_hw477.1 k0_h2
theorem k0_off1925_inb : ∀ (i : grid0.Coords) (v7273 : BitVec 32) (k0_hw477 : k0_chk477 i v7273), ∀ (k0_h2 : k0_cond2 i = 1#1), ∀ a, (k0_off1925 v7273) a + S8x128.size a ≤ S131072x128.size a := fun i v7273 k0_hw477 k0_h2 => k0_hw477.2 k0_h2

def k0_off1926 (i : grid0.Coords) : Fin 3 → Nat :=
  let c0_4575 : Index := 0#32
  let c0_4576 : Index := 0#32
  let arg1 : BitVec 32 := BitVec.ofNat 32 (i 1).val
  let c2_i32_4570 : BitVec 32 := 2#32
  let v7282 : BitVec 32 := Scalar.muli arg1 c2_i32_4570
  let c1_i32_4571 : BitVec 32 := 1#32
  let v7283 : BitVec 32 := Scalar.addi v7282 c1_i32_4571
  let c256_i32_4572 : BitVec 32 := 256#32
  let v7284 : BitVec 32 := Scalar.muli v7283 c256_i32_4572
  let c220_i32_4573 : BitVec 32 := 220#32
  let v7285 : BitVec 32 := Scalar.addi v7284 c220_i32_4573
  let v7287 : Index := Scalar.indexCast v7285
  ![0, 0, v7287.toNat]
def k0_mult955 (v7288 : BitVec 32) : BitVec 32 :=
  v7288

def k0_mult956 (i : grid0.Coords) : BitVec 32 :=
  let arg1 : BitVec 32 := BitVec.ofNat 32 (i 1).val
  let c2_i32_4570 : BitVec 32 := 2#32
  let v7282 : BitVec 32 := Scalar.muli arg1 c2_i32_4570
  let c1_i32_4571 : BitVec 32 := 1#32
  let v7283 : BitVec 32 := Scalar.addi v7282 c1_i32_4571
  let c256_i32_4572 : BitVec 32 := 256#32
  let v7284 : BitVec 32 := Scalar.muli v7283 c256_i32_4572
  let c220_i32_4573 : BitVec 32 := 220#32
  let v7285 : BitVec 32 := Scalar.addi v7284 c220_i32_4573
  let c8_i32_4577 : BitVec 32 := 8#32
  let v7290 : BitVec 32 := Scalar.muli v7285 c8_i32_4577
  v7290
def k0_off1927 (i : grid0.Coords) : Fin 1 → Nat :=
  let c1_i32_4574 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7286 : BitVec 32 := Scalar.subi c1_i32_4574 v9
  ![v7286.toNat]
def k0_off1928 (i : grid0.Coords) : Fin 3 → Nat :=
  let c1_i32_4574 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7286 : BitVec 32 := Scalar.subi c1_i32_4574 v9
  let arg1 : BitVec 32 := BitVec.ofNat 32 (i 1).val
  let c2_i32_4570 : BitVec 32 := 2#32
  let v7282 : BitVec 32 := Scalar.muli arg1 c2_i32_4570
  let c1_i32_4571 : BitVec 32 := 1#32
  let v7283 : BitVec 32 := Scalar.addi v7282 c1_i32_4571
  let c256_i32_4572 : BitVec 32 := 256#32
  let v7284 : BitVec 32 := Scalar.muli v7283 c256_i32_4572
  let c220_i32_4573 : BitVec 32 := 220#32
  let v7285 : BitVec 32 := Scalar.addi v7284 c220_i32_4573
  let c8_i32_4577 : BitVec 32 := 8#32
  let v7290 : BitVec 32 := Scalar.muli v7285 c8_i32_4577
  let v7291 : BitVec 32 := v7290
  let c0_i32_4578 : BitVec 32 := 0#32
  ![v7286.toNat, v7291.toNat, 0]
def k0_off1929 (v7288 : BitVec 32) : Fin 2 → Nat :=
  let v7289 : BitVec 32 := v7288
  let c0_i32_4579 : BitVec 32 := 0#32
  ![v7289.toNat, 0]

def k0_chk478 (i : grid0.Coords) (v7288 : BitVec 32) : Prop :=
  (∀ (k0_h2 : k0_cond2 i = 1#1), 8 ∣ (k0_mult955 v7288).toNat) ∧
  (∀ (k0_h2 : k0_cond2 i = 1#1), ∀ a, (k0_off1929 v7288) a + S8x128.size a ≤ S131072x128.size a)
theorem k0_mult955_dvd : ∀ (i : grid0.Coords) (v7288 : BitVec 32) (k0_hw478 : k0_chk478 i v7288), ∀ (k0_h2 : k0_cond2 i = 1#1), 8 ∣ (k0_mult955 v7288).toNat := fun i v7288 k0_hw478 k0_h2 => k0_hw478.1 k0_h2
theorem k0_off1929_inb : ∀ (i : grid0.Coords) (v7288 : BitVec 32) (k0_hw478 : k0_chk478 i v7288), ∀ (k0_h2 : k0_cond2 i = 1#1), ∀ a, (k0_off1929 v7288) a + S8x128.size a ≤ S131072x128.size a := fun i v7288 k0_hw478 k0_h2 => k0_hw478.2 k0_h2

def k0_off1930 (i : grid0.Coords) : Fin 3 → Nat :=
  let c0_4585 : Index := 0#32
  let c0_4586 : Index := 0#32
  let arg1 : BitVec 32 := BitVec.ofNat 32 (i 1).val
  let c2_i32_4580 : BitVec 32 := 2#32
  let v7297 : BitVec 32 := Scalar.muli arg1 c2_i32_4580
  let c1_i32_4581 : BitVec 32 := 1#32
  let v7298 : BitVec 32 := Scalar.addi v7297 c1_i32_4581
  let c256_i32_4582 : BitVec 32 := 256#32
  let v7299 : BitVec 32 := Scalar.muli v7298 c256_i32_4582
  let c221_i32_4583 : BitVec 32 := 221#32
  let v7300 : BitVec 32 := Scalar.addi v7299 c221_i32_4583
  let v7302 : Index := Scalar.indexCast v7300
  ![0, 0, v7302.toNat]
def k0_mult957 (v7303 : BitVec 32) : BitVec 32 :=
  v7303

def k0_mult958 (i : grid0.Coords) : BitVec 32 :=
  let arg1 : BitVec 32 := BitVec.ofNat 32 (i 1).val
  let c2_i32_4580 : BitVec 32 := 2#32
  let v7297 : BitVec 32 := Scalar.muli arg1 c2_i32_4580
  let c1_i32_4581 : BitVec 32 := 1#32
  let v7298 : BitVec 32 := Scalar.addi v7297 c1_i32_4581
  let c256_i32_4582 : BitVec 32 := 256#32
  let v7299 : BitVec 32 := Scalar.muli v7298 c256_i32_4582
  let c221_i32_4583 : BitVec 32 := 221#32
  let v7300 : BitVec 32 := Scalar.addi v7299 c221_i32_4583
  let c8_i32_4587 : BitVec 32 := 8#32
  let v7305 : BitVec 32 := Scalar.muli v7300 c8_i32_4587
  v7305
def k0_off1931 (i : grid0.Coords) : Fin 1 → Nat :=
  let c1_i32_4584 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7301 : BitVec 32 := Scalar.subi c1_i32_4584 v9
  ![v7301.toNat]
def k0_off1932 (i : grid0.Coords) : Fin 3 → Nat :=
  let c1_i32_4584 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7301 : BitVec 32 := Scalar.subi c1_i32_4584 v9
  let arg1 : BitVec 32 := BitVec.ofNat 32 (i 1).val
  let c2_i32_4580 : BitVec 32 := 2#32
  let v7297 : BitVec 32 := Scalar.muli arg1 c2_i32_4580
  let c1_i32_4581 : BitVec 32 := 1#32
  let v7298 : BitVec 32 := Scalar.addi v7297 c1_i32_4581
  let c256_i32_4582 : BitVec 32 := 256#32
  let v7299 : BitVec 32 := Scalar.muli v7298 c256_i32_4582
  let c221_i32_4583 : BitVec 32 := 221#32
  let v7300 : BitVec 32 := Scalar.addi v7299 c221_i32_4583
  let c8_i32_4587 : BitVec 32 := 8#32
  let v7305 : BitVec 32 := Scalar.muli v7300 c8_i32_4587
  let v7306 : BitVec 32 := v7305
  let c0_i32_4588 : BitVec 32 := 0#32
  ![v7301.toNat, v7306.toNat, 0]
def k0_off1933 (v7303 : BitVec 32) : Fin 2 → Nat :=
  let v7304 : BitVec 32 := v7303
  let c0_i32_4589 : BitVec 32 := 0#32
  ![v7304.toNat, 0]

def k0_chk479 (i : grid0.Coords) (v7303 : BitVec 32) : Prop :=
  (∀ (k0_h2 : k0_cond2 i = 1#1), 8 ∣ (k0_mult957 v7303).toNat) ∧
  (∀ (k0_h2 : k0_cond2 i = 1#1), ∀ a, (k0_off1933 v7303) a + S8x128.size a ≤ S131072x128.size a)
theorem k0_mult957_dvd : ∀ (i : grid0.Coords) (v7303 : BitVec 32) (k0_hw479 : k0_chk479 i v7303), ∀ (k0_h2 : k0_cond2 i = 1#1), 8 ∣ (k0_mult957 v7303).toNat := fun i v7303 k0_hw479 k0_h2 => k0_hw479.1 k0_h2
theorem k0_off1933_inb : ∀ (i : grid0.Coords) (v7303 : BitVec 32) (k0_hw479 : k0_chk479 i v7303), ∀ (k0_h2 : k0_cond2 i = 1#1), ∀ a, (k0_off1933 v7303) a + S8x128.size a ≤ S131072x128.size a := fun i v7303 k0_hw479 k0_h2 => k0_hw479.2 k0_h2

def k0_off1934 (i : grid0.Coords) : Fin 3 → Nat :=
  let c0_4595 : Index := 0#32
  let c0_4596 : Index := 0#32
  let arg1 : BitVec 32 := BitVec.ofNat 32 (i 1).val
  let c2_i32_4590 : BitVec 32 := 2#32
  let v7312 : BitVec 32 := Scalar.muli arg1 c2_i32_4590
  let c1_i32_4591 : BitVec 32 := 1#32
  let v7313 : BitVec 32 := Scalar.addi v7312 c1_i32_4591
  let c256_i32_4592 : BitVec 32 := 256#32
  let v7314 : BitVec 32 := Scalar.muli v7313 c256_i32_4592
  let c222_i32_4593 : BitVec 32 := 222#32
  let v7315 : BitVec 32 := Scalar.addi v7314 c222_i32_4593
  let v7317 : Index := Scalar.indexCast v7315
  ![0, 0, v7317.toNat]
def k0_mult959 (v7318 : BitVec 32) : BitVec 32 :=
  v7318

def k0_mult960 (i : grid0.Coords) : BitVec 32 :=
  let arg1 : BitVec 32 := BitVec.ofNat 32 (i 1).val
  let c2_i32_4590 : BitVec 32 := 2#32
  let v7312 : BitVec 32 := Scalar.muli arg1 c2_i32_4590
  let c1_i32_4591 : BitVec 32 := 1#32
  let v7313 : BitVec 32 := Scalar.addi v7312 c1_i32_4591
  let c256_i32_4592 : BitVec 32 := 256#32
  let v7314 : BitVec 32 := Scalar.muli v7313 c256_i32_4592
  let c222_i32_4593 : BitVec 32 := 222#32
  let v7315 : BitVec 32 := Scalar.addi v7314 c222_i32_4593
  let c8_i32_4597 : BitVec 32 := 8#32
  let v7320 : BitVec 32 := Scalar.muli v7315 c8_i32_4597
  v7320
def k0_off1935 (i : grid0.Coords) : Fin 1 → Nat :=
  let c1_i32_4594 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7316 : BitVec 32 := Scalar.subi c1_i32_4594 v9
  ![v7316.toNat]
def k0_off1936 (i : grid0.Coords) : Fin 3 → Nat :=
  let c1_i32_4594 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7316 : BitVec 32 := Scalar.subi c1_i32_4594 v9
  let arg1 : BitVec 32 := BitVec.ofNat 32 (i 1).val
  let c2_i32_4590 : BitVec 32 := 2#32
  let v7312 : BitVec 32 := Scalar.muli arg1 c2_i32_4590
  let c1_i32_4591 : BitVec 32 := 1#32
  let v7313 : BitVec 32 := Scalar.addi v7312 c1_i32_4591
  let c256_i32_4592 : BitVec 32 := 256#32
  let v7314 : BitVec 32 := Scalar.muli v7313 c256_i32_4592
  let c222_i32_4593 : BitVec 32 := 222#32
  let v7315 : BitVec 32 := Scalar.addi v7314 c222_i32_4593
  let c8_i32_4597 : BitVec 32 := 8#32
  let v7320 : BitVec 32 := Scalar.muli v7315 c8_i32_4597
  let v7321 : BitVec 32 := v7320
  let c0_i32_4598 : BitVec 32 := 0#32
  ![v7316.toNat, v7321.toNat, 0]
def k0_off1937 (v7318 : BitVec 32) : Fin 2 → Nat :=
  let v7319 : BitVec 32 := v7318
  let c0_i32_4599 : BitVec 32 := 0#32
  ![v7319.toNat, 0]

def k0_chk480 (i : grid0.Coords) (v7318 : BitVec 32) : Prop :=
  (∀ (k0_h2 : k0_cond2 i = 1#1), 8 ∣ (k0_mult959 v7318).toNat) ∧
  (∀ (k0_h2 : k0_cond2 i = 1#1), ∀ a, (k0_off1937 v7318) a + S8x128.size a ≤ S131072x128.size a)
theorem k0_mult959_dvd : ∀ (i : grid0.Coords) (v7318 : BitVec 32) (k0_hw480 : k0_chk480 i v7318), ∀ (k0_h2 : k0_cond2 i = 1#1), 8 ∣ (k0_mult959 v7318).toNat := fun i v7318 k0_hw480 k0_h2 => k0_hw480.1 k0_h2
theorem k0_off1937_inb : ∀ (i : grid0.Coords) (v7318 : BitVec 32) (k0_hw480 : k0_chk480 i v7318), ∀ (k0_h2 : k0_cond2 i = 1#1), ∀ a, (k0_off1937 v7318) a + S8x128.size a ≤ S131072x128.size a := fun i v7318 k0_hw480 k0_h2 => k0_hw480.2 k0_h2

def k0_off1938 (i : grid0.Coords) : Fin 3 → Nat :=
  let c0_4605 : Index := 0#32
  let c0_4606 : Index := 0#32
  let arg1 : BitVec 32 := BitVec.ofNat 32 (i 1).val
  let c2_i32_4600 : BitVec 32 := 2#32
  let v7327 : BitVec 32 := Scalar.muli arg1 c2_i32_4600
  let c1_i32_4601 : BitVec 32 := 1#32
  let v7328 : BitVec 32 := Scalar.addi v7327 c1_i32_4601
  let c256_i32_4602 : BitVec 32 := 256#32
  let v7329 : BitVec 32 := Scalar.muli v7328 c256_i32_4602
  let c223_i32_4603 : BitVec 32 := 223#32
  let v7330 : BitVec 32 := Scalar.addi v7329 c223_i32_4603
  let v7332 : Index := Scalar.indexCast v7330
  ![0, 0, v7332.toNat]
def k0_mult961 (v7333 : BitVec 32) : BitVec 32 :=
  v7333

def k0_mult962 (i : grid0.Coords) : BitVec 32 :=
  let arg1 : BitVec 32 := BitVec.ofNat 32 (i 1).val
  let c2_i32_4600 : BitVec 32 := 2#32
  let v7327 : BitVec 32 := Scalar.muli arg1 c2_i32_4600
  let c1_i32_4601 : BitVec 32 := 1#32
  let v7328 : BitVec 32 := Scalar.addi v7327 c1_i32_4601
  let c256_i32_4602 : BitVec 32 := 256#32
  let v7329 : BitVec 32 := Scalar.muli v7328 c256_i32_4602
  let c223_i32_4603 : BitVec 32 := 223#32
  let v7330 : BitVec 32 := Scalar.addi v7329 c223_i32_4603
  let c8_i32_4607 : BitVec 32 := 8#32
  let v7335 : BitVec 32 := Scalar.muli v7330 c8_i32_4607
  v7335
def k0_off1939 (i : grid0.Coords) : Fin 1 → Nat :=
  let c1_i32_4604 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7331 : BitVec 32 := Scalar.subi c1_i32_4604 v9
  ![v7331.toNat]
def k0_off1940 (i : grid0.Coords) : Fin 3 → Nat :=
  let c1_i32_4604 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7331 : BitVec 32 := Scalar.subi c1_i32_4604 v9
  let arg1 : BitVec 32 := BitVec.ofNat 32 (i 1).val
  let c2_i32_4600 : BitVec 32 := 2#32
  let v7327 : BitVec 32 := Scalar.muli arg1 c2_i32_4600
  let c1_i32_4601 : BitVec 32 := 1#32
  let v7328 : BitVec 32 := Scalar.addi v7327 c1_i32_4601
  let c256_i32_4602 : BitVec 32 := 256#32
  let v7329 : BitVec 32 := Scalar.muli v7328 c256_i32_4602
  let c223_i32_4603 : BitVec 32 := 223#32
  let v7330 : BitVec 32 := Scalar.addi v7329 c223_i32_4603
  let c8_i32_4607 : BitVec 32 := 8#32
  let v7335 : BitVec 32 := Scalar.muli v7330 c8_i32_4607
  let v7336 : BitVec 32 := v7335
  let c0_i32_4608 : BitVec 32 := 0#32
  ![v7331.toNat, v7336.toNat, 0]
def k0_off1941 (v7333 : BitVec 32) : Fin 2 → Nat :=
  let v7334 : BitVec 32 := v7333
  let c0_i32_4609 : BitVec 32 := 0#32
  ![v7334.toNat, 0]

def k0_chk481 (i : grid0.Coords) (v7333 : BitVec 32) : Prop :=
  (∀ (k0_h2 : k0_cond2 i = 1#1), 8 ∣ (k0_mult961 v7333).toNat) ∧
  (∀ (k0_h2 : k0_cond2 i = 1#1), ∀ a, (k0_off1941 v7333) a + S8x128.size a ≤ S131072x128.size a)
theorem k0_mult961_dvd : ∀ (i : grid0.Coords) (v7333 : BitVec 32) (k0_hw481 : k0_chk481 i v7333), ∀ (k0_h2 : k0_cond2 i = 1#1), 8 ∣ (k0_mult961 v7333).toNat := fun i v7333 k0_hw481 k0_h2 => k0_hw481.1 k0_h2
theorem k0_off1941_inb : ∀ (i : grid0.Coords) (v7333 : BitVec 32) (k0_hw481 : k0_chk481 i v7333), ∀ (k0_h2 : k0_cond2 i = 1#1), ∀ a, (k0_off1941 v7333) a + S8x128.size a ≤ S131072x128.size a := fun i v7333 k0_hw481 k0_h2 => k0_hw481.2 k0_h2

def k0_off1942 (i : grid0.Coords) : Fin 3 → Nat :=
  let c0_4615 : Index := 0#32
  let c0_4616 : Index := 0#32
  let arg1 : BitVec 32 := BitVec.ofNat 32 (i 1).val
  let c2_i32_4610 : BitVec 32 := 2#32
  let v7342 : BitVec 32 := Scalar.muli arg1 c2_i32_4610
  let c1_i32_4611 : BitVec 32 := 1#32
  let v7343 : BitVec 32 := Scalar.addi v7342 c1_i32_4611
  let c256_i32_4612 : BitVec 32 := 256#32
  let v7344 : BitVec 32 := Scalar.muli v7343 c256_i32_4612
  let c224_i32_4613 : BitVec 32 := 224#32
  let v7345 : BitVec 32 := Scalar.addi v7344 c224_i32_4613
  let v7347 : Index := Scalar.indexCast v7345
  ![0, 0, v7347.toNat]
def k0_mult963 (v7348 : BitVec 32) : BitVec 32 :=
  v7348

def k0_mult964 (i : grid0.Coords) : BitVec 32 :=
  let arg1 : BitVec 32 := BitVec.ofNat 32 (i 1).val
  let c2_i32_4610 : BitVec 32 := 2#32
  let v7342 : BitVec 32 := Scalar.muli arg1 c2_i32_4610
  let c1_i32_4611 : BitVec 32 := 1#32
  let v7343 : BitVec 32 := Scalar.addi v7342 c1_i32_4611
  let c256_i32_4612 : BitVec 32 := 256#32
  let v7344 : BitVec 32 := Scalar.muli v7343 c256_i32_4612
  let c224_i32_4613 : BitVec 32 := 224#32
  let v7345 : BitVec 32 := Scalar.addi v7344 c224_i32_4613
  let c8_i32_4617 : BitVec 32 := 8#32
  let v7350 : BitVec 32 := Scalar.muli v7345 c8_i32_4617
  v7350
def k0_off1943 (i : grid0.Coords) : Fin 1 → Nat :=
  let c1_i32_4614 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7346 : BitVec 32 := Scalar.subi c1_i32_4614 v9
  ![v7346.toNat]
def k0_off1944 (i : grid0.Coords) : Fin 3 → Nat :=
  let c1_i32_4614 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7346 : BitVec 32 := Scalar.subi c1_i32_4614 v9
  let arg1 : BitVec 32 := BitVec.ofNat 32 (i 1).val
  let c2_i32_4610 : BitVec 32 := 2#32
  let v7342 : BitVec 32 := Scalar.muli arg1 c2_i32_4610
  let c1_i32_4611 : BitVec 32 := 1#32
  let v7343 : BitVec 32 := Scalar.addi v7342 c1_i32_4611
  let c256_i32_4612 : BitVec 32 := 256#32
  let v7344 : BitVec 32 := Scalar.muli v7343 c256_i32_4612
  let c224_i32_4613 : BitVec 32 := 224#32
  let v7345 : BitVec 32 := Scalar.addi v7344 c224_i32_4613
  let c8_i32_4617 : BitVec 32 := 8#32
  let v7350 : BitVec 32 := Scalar.muli v7345 c8_i32_4617
  let v7351 : BitVec 32 := v7350
  let c0_i32_4618 : BitVec 32 := 0#32
  ![v7346.toNat, v7351.toNat, 0]
def k0_off1945 (v7348 : BitVec 32) : Fin 2 → Nat :=
  let v7349 : BitVec 32 := v7348
  let c0_i32_4619 : BitVec 32 := 0#32
  ![v7349.toNat, 0]

def k0_chk482 (i : grid0.Coords) (v7348 : BitVec 32) : Prop :=
  (∀ (k0_h2 : k0_cond2 i = 1#1), 8 ∣ (k0_mult963 v7348).toNat) ∧
  (∀ (k0_h2 : k0_cond2 i = 1#1), ∀ a, (k0_off1945 v7348) a + S8x128.size a ≤ S131072x128.size a)
theorem k0_mult963_dvd : ∀ (i : grid0.Coords) (v7348 : BitVec 32) (k0_hw482 : k0_chk482 i v7348), ∀ (k0_h2 : k0_cond2 i = 1#1), 8 ∣ (k0_mult963 v7348).toNat := fun i v7348 k0_hw482 k0_h2 => k0_hw482.1 k0_h2
theorem k0_off1945_inb : ∀ (i : grid0.Coords) (v7348 : BitVec 32) (k0_hw482 : k0_chk482 i v7348), ∀ (k0_h2 : k0_cond2 i = 1#1), ∀ a, (k0_off1945 v7348) a + S8x128.size a ≤ S131072x128.size a := fun i v7348 k0_hw482 k0_h2 => k0_hw482.2 k0_h2

def k0_off1946 (i : grid0.Coords) : Fin 3 → Nat :=
  let c0_4625 : Index := 0#32
  let c0_4626 : Index := 0#32
  let arg1 : BitVec 32 := BitVec.ofNat 32 (i 1).val
  let c2_i32_4620 : BitVec 32 := 2#32
  let v7357 : BitVec 32 := Scalar.muli arg1 c2_i32_4620
  let c1_i32_4621 : BitVec 32 := 1#32
  let v7358 : BitVec 32 := Scalar.addi v7357 c1_i32_4621
  let c256_i32_4622 : BitVec 32 := 256#32
  let v7359 : BitVec 32 := Scalar.muli v7358 c256_i32_4622
  let c225_i32_4623 : BitVec 32 := 225#32
  let v7360 : BitVec 32 := Scalar.addi v7359 c225_i32_4623
  let v7362 : Index := Scalar.indexCast v7360
  ![0, 0, v7362.toNat]
def k0_mult965 (v7363 : BitVec 32) : BitVec 32 :=
  v7363

def k0_mult966 (i : grid0.Coords) : BitVec 32 :=
  let arg1 : BitVec 32 := BitVec.ofNat 32 (i 1).val
  let c2_i32_4620 : BitVec 32 := 2#32
  let v7357 : BitVec 32 := Scalar.muli arg1 c2_i32_4620
  let c1_i32_4621 : BitVec 32 := 1#32
  let v7358 : BitVec 32 := Scalar.addi v7357 c1_i32_4621
  let c256_i32_4622 : BitVec 32 := 256#32
  let v7359 : BitVec 32 := Scalar.muli v7358 c256_i32_4622
  let c225_i32_4623 : BitVec 32 := 225#32
  let v7360 : BitVec 32 := Scalar.addi v7359 c225_i32_4623
  let c8_i32_4627 : BitVec 32 := 8#32
  let v7365 : BitVec 32 := Scalar.muli v7360 c8_i32_4627
  v7365
def k0_off1947 (i : grid0.Coords) : Fin 1 → Nat :=
  let c1_i32_4624 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7361 : BitVec 32 := Scalar.subi c1_i32_4624 v9
  ![v7361.toNat]
def k0_off1948 (i : grid0.Coords) : Fin 3 → Nat :=
  let c1_i32_4624 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7361 : BitVec 32 := Scalar.subi c1_i32_4624 v9
  let arg1 : BitVec 32 := BitVec.ofNat 32 (i 1).val
  let c2_i32_4620 : BitVec 32 := 2#32
  let v7357 : BitVec 32 := Scalar.muli arg1 c2_i32_4620
  let c1_i32_4621 : BitVec 32 := 1#32
  let v7358 : BitVec 32 := Scalar.addi v7357 c1_i32_4621
  let c256_i32_4622 : BitVec 32 := 256#32
  let v7359 : BitVec 32 := Scalar.muli v7358 c256_i32_4622
  let c225_i32_4623 : BitVec 32 := 225#32
  let v7360 : BitVec 32 := Scalar.addi v7359 c225_i32_4623
  let c8_i32_4627 : BitVec 32 := 8#32
  let v7365 : BitVec 32 := Scalar.muli v7360 c8_i32_4627
  let v7366 : BitVec 32 := v7365
  let c0_i32_4628 : BitVec 32 := 0#32
  ![v7361.toNat, v7366.toNat, 0]
def k0_off1949 (v7363 : BitVec 32) : Fin 2 → Nat :=
  let v7364 : BitVec 32 := v7363
  let c0_i32_4629 : BitVec 32 := 0#32
  ![v7364.toNat, 0]

def k0_chk483 (i : grid0.Coords) (v7363 : BitVec 32) : Prop :=
  (∀ (k0_h2 : k0_cond2 i = 1#1), 8 ∣ (k0_mult965 v7363).toNat) ∧
  (∀ (k0_h2 : k0_cond2 i = 1#1), ∀ a, (k0_off1949 v7363) a + S8x128.size a ≤ S131072x128.size a)
theorem k0_mult965_dvd : ∀ (i : grid0.Coords) (v7363 : BitVec 32) (k0_hw483 : k0_chk483 i v7363), ∀ (k0_h2 : k0_cond2 i = 1#1), 8 ∣ (k0_mult965 v7363).toNat := fun i v7363 k0_hw483 k0_h2 => k0_hw483.1 k0_h2
theorem k0_off1949_inb : ∀ (i : grid0.Coords) (v7363 : BitVec 32) (k0_hw483 : k0_chk483 i v7363), ∀ (k0_h2 : k0_cond2 i = 1#1), ∀ a, (k0_off1949 v7363) a + S8x128.size a ≤ S131072x128.size a := fun i v7363 k0_hw483 k0_h2 => k0_hw483.2 k0_h2

def k0_off1950 (i : grid0.Coords) : Fin 3 → Nat :=
  let c0_4635 : Index := 0#32
  let c0_4636 : Index := 0#32
  let arg1 : BitVec 32 := BitVec.ofNat 32 (i 1).val
  let c2_i32_4630 : BitVec 32 := 2#32
  let v7372 : BitVec 32 := Scalar.muli arg1 c2_i32_4630
  let c1_i32_4631 : BitVec 32 := 1#32
  let v7373 : BitVec 32 := Scalar.addi v7372 c1_i32_4631
  let c256_i32_4632 : BitVec 32 := 256#32
  let v7374 : BitVec 32 := Scalar.muli v7373 c256_i32_4632
  let c226_i32_4633 : BitVec 32 := 226#32
  let v7375 : BitVec 32 := Scalar.addi v7374 c226_i32_4633
  let v7377 : Index := Scalar.indexCast v7375
  ![0, 0, v7377.toNat]
def k0_mult967 (v7378 : BitVec 32) : BitVec 32 :=
  v7378

def k0_mult968 (i : grid0.Coords) : BitVec 32 :=
  let arg1 : BitVec 32 := BitVec.ofNat 32 (i 1).val
  let c2_i32_4630 : BitVec 32 := 2#32
  let v7372 : BitVec 32 := Scalar.muli arg1 c2_i32_4630
  let c1_i32_4631 : BitVec 32 := 1#32
  let v7373 : BitVec 32 := Scalar.addi v7372 c1_i32_4631
  let c256_i32_4632 : BitVec 32 := 256#32
  let v7374 : BitVec 32 := Scalar.muli v7373 c256_i32_4632
  let c226_i32_4633 : BitVec 32 := 226#32
  let v7375 : BitVec 32 := Scalar.addi v7374 c226_i32_4633
  let c8_i32_4637 : BitVec 32 := 8#32
  let v7380 : BitVec 32 := Scalar.muli v7375 c8_i32_4637
  v7380
def k0_off1951 (i : grid0.Coords) : Fin 1 → Nat :=
  let c1_i32_4634 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7376 : BitVec 32 := Scalar.subi c1_i32_4634 v9
  ![v7376.toNat]
def k0_off1952 (i : grid0.Coords) : Fin 3 → Nat :=
  let c1_i32_4634 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7376 : BitVec 32 := Scalar.subi c1_i32_4634 v9
  let arg1 : BitVec 32 := BitVec.ofNat 32 (i 1).val
  let c2_i32_4630 : BitVec 32 := 2#32
  let v7372 : BitVec 32 := Scalar.muli arg1 c2_i32_4630
  let c1_i32_4631 : BitVec 32 := 1#32
  let v7373 : BitVec 32 := Scalar.addi v7372 c1_i32_4631
  let c256_i32_4632 : BitVec 32 := 256#32
  let v7374 : BitVec 32 := Scalar.muli v7373 c256_i32_4632
  let c226_i32_4633 : BitVec 32 := 226#32
  let v7375 : BitVec 32 := Scalar.addi v7374 c226_i32_4633
  let c8_i32_4637 : BitVec 32 := 8#32
  let v7380 : BitVec 32 := Scalar.muli v7375 c8_i32_4637
  let v7381 : BitVec 32 := v7380
  let c0_i32_4638 : BitVec 32 := 0#32
  ![v7376.toNat, v7381.toNat, 0]
def k0_off1953 (v7378 : BitVec 32) : Fin 2 → Nat :=
  let v7379 : BitVec 32 := v7378
  let c0_i32_4639 : BitVec 32 := 0#32
  ![v7379.toNat, 0]

def k0_chk484 (i : grid0.Coords) (v7378 : BitVec 32) : Prop :=
  (∀ (k0_h2 : k0_cond2 i = 1#1), 8 ∣ (k0_mult967 v7378).toNat) ∧
  (∀ (k0_h2 : k0_cond2 i = 1#1), ∀ a, (k0_off1953 v7378) a + S8x128.size a ≤ S131072x128.size a)
theorem k0_mult967_dvd : ∀ (i : grid0.Coords) (v7378 : BitVec 32) (k0_hw484 : k0_chk484 i v7378), ∀ (k0_h2 : k0_cond2 i = 1#1), 8 ∣ (k0_mult967 v7378).toNat := fun i v7378 k0_hw484 k0_h2 => k0_hw484.1 k0_h2
theorem k0_off1953_inb : ∀ (i : grid0.Coords) (v7378 : BitVec 32) (k0_hw484 : k0_chk484 i v7378), ∀ (k0_h2 : k0_cond2 i = 1#1), ∀ a, (k0_off1953 v7378) a + S8x128.size a ≤ S131072x128.size a := fun i v7378 k0_hw484 k0_h2 => k0_hw484.2 k0_h2

def k0_off1954 (i : grid0.Coords) : Fin 3 → Nat :=
  let c0_4645 : Index := 0#32
  let c0_4646 : Index := 0#32
  let arg1 : BitVec 32 := BitVec.ofNat 32 (i 1).val
  let c2_i32_4640 : BitVec 32 := 2#32
  let v7387 : BitVec 32 := Scalar.muli arg1 c2_i32_4640
  let c1_i32_4641 : BitVec 32 := 1#32
  let v7388 : BitVec 32 := Scalar.addi v7387 c1_i32_4641
  let c256_i32_4642 : BitVec 32 := 256#32
  let v7389 : BitVec 32 := Scalar.muli v7388 c256_i32_4642
  let c227_i32_4643 : BitVec 32 := 227#32
  let v7390 : BitVec 32 := Scalar.addi v7389 c227_i32_4643
  let v7392 : Index := Scalar.indexCast v7390
  ![0, 0, v7392.toNat]
def k0_mult969 (v7393 : BitVec 32) : BitVec 32 :=
  v7393

def k0_mult970 (i : grid0.Coords) : BitVec 32 :=
  let arg1 : BitVec 32 := BitVec.ofNat 32 (i 1).val
  let c2_i32_4640 : BitVec 32 := 2#32
  let v7387 : BitVec 32 := Scalar.muli arg1 c2_i32_4640
  let c1_i32_4641 : BitVec 32 := 1#32
  let v7388 : BitVec 32 := Scalar.addi v7387 c1_i32_4641
  let c256_i32_4642 : BitVec 32 := 256#32
  let v7389 : BitVec 32 := Scalar.muli v7388 c256_i32_4642
  let c227_i32_4643 : BitVec 32 := 227#32
  let v7390 : BitVec 32 := Scalar.addi v7389 c227_i32_4643
  let c8_i32_4647 : BitVec 32 := 8#32
  let v7395 : BitVec 32 := Scalar.muli v7390 c8_i32_4647
  v7395
def k0_off1955 (i : grid0.Coords) : Fin 1 → Nat :=
  let c1_i32_4644 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7391 : BitVec 32 := Scalar.subi c1_i32_4644 v9
  ![v7391.toNat]
def k0_off1956 (i : grid0.Coords) : Fin 3 → Nat :=
  let c1_i32_4644 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7391 : BitVec 32 := Scalar.subi c1_i32_4644 v9
  let arg1 : BitVec 32 := BitVec.ofNat 32 (i 1).val
  let c2_i32_4640 : BitVec 32 := 2#32
  let v7387 : BitVec 32 := Scalar.muli arg1 c2_i32_4640
  let c1_i32_4641 : BitVec 32 := 1#32
  let v7388 : BitVec 32 := Scalar.addi v7387 c1_i32_4641
  let c256_i32_4642 : BitVec 32 := 256#32
  let v7389 : BitVec 32 := Scalar.muli v7388 c256_i32_4642
  let c227_i32_4643 : BitVec 32 := 227#32
  let v7390 : BitVec 32 := Scalar.addi v7389 c227_i32_4643
  let c8_i32_4647 : BitVec 32 := 8#32
  let v7395 : BitVec 32 := Scalar.muli v7390 c8_i32_4647
  let v7396 : BitVec 32 := v7395
  let c0_i32_4648 : BitVec 32 := 0#32
  ![v7391.toNat, v7396.toNat, 0]
def k0_off1957 (v7393 : BitVec 32) : Fin 2 → Nat :=
  let v7394 : BitVec 32 := v7393
  let c0_i32_4649 : BitVec 32 := 0#32
  ![v7394.toNat, 0]

def k0_chk485 (i : grid0.Coords) (v7393 : BitVec 32) : Prop :=
  (∀ (k0_h2 : k0_cond2 i = 1#1), 8 ∣ (k0_mult969 v7393).toNat) ∧
  (∀ (k0_h2 : k0_cond2 i = 1#1), ∀ a, (k0_off1957 v7393) a + S8x128.size a ≤ S131072x128.size a)
theorem k0_mult969_dvd : ∀ (i : grid0.Coords) (v7393 : BitVec 32) (k0_hw485 : k0_chk485 i v7393), ∀ (k0_h2 : k0_cond2 i = 1#1), 8 ∣ (k0_mult969 v7393).toNat := fun i v7393 k0_hw485 k0_h2 => k0_hw485.1 k0_h2
theorem k0_off1957_inb : ∀ (i : grid0.Coords) (v7393 : BitVec 32) (k0_hw485 : k0_chk485 i v7393), ∀ (k0_h2 : k0_cond2 i = 1#1), ∀ a, (k0_off1957 v7393) a + S8x128.size a ≤ S131072x128.size a := fun i v7393 k0_hw485 k0_h2 => k0_hw485.2 k0_h2

def k0_off1958 (i : grid0.Coords) : Fin 3 → Nat :=
  let c0_4655 : Index := 0#32
  let c0_4656 : Index := 0#32
  let arg1 : BitVec 32 := BitVec.ofNat 32 (i 1).val
  let c2_i32_4650 : BitVec 32 := 2#32
  let v7402 : BitVec 32 := Scalar.muli arg1 c2_i32_4650
  let c1_i32_4651 : BitVec 32 := 1#32
  let v7403 : BitVec 32 := Scalar.addi v7402 c1_i32_4651
  let c256_i32_4652 : BitVec 32 := 256#32
  let v7404 : BitVec 32 := Scalar.muli v7403 c256_i32_4652
  let c228_i32_4653 : BitVec 32 := 228#32
  let v7405 : BitVec 32 := Scalar.addi v7404 c228_i32_4653
  let v7407 : Index := Scalar.indexCast v7405
  ![0, 0, v7407.toNat]
def k0_mult971 (v7408 : BitVec 32) : BitVec 32 :=
  v7408

def k0_mult972 (i : grid0.Coords) : BitVec 32 :=
  let arg1 : BitVec 32 := BitVec.ofNat 32 (i 1).val
  let c2_i32_4650 : BitVec 32 := 2#32
  let v7402 : BitVec 32 := Scalar.muli arg1 c2_i32_4650
  let c1_i32_4651 : BitVec 32 := 1#32
  let v7403 : BitVec 32 := Scalar.addi v7402 c1_i32_4651
  let c256_i32_4652 : BitVec 32 := 256#32
  let v7404 : BitVec 32 := Scalar.muli v7403 c256_i32_4652
  let c228_i32_4653 : BitVec 32 := 228#32
  let v7405 : BitVec 32 := Scalar.addi v7404 c228_i32_4653
  let c8_i32_4657 : BitVec 32 := 8#32
  let v7410 : BitVec 32 := Scalar.muli v7405 c8_i32_4657
  v7410
def k0_off1959 (i : grid0.Coords) : Fin 1 → Nat :=
  let c1_i32_4654 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7406 : BitVec 32 := Scalar.subi c1_i32_4654 v9
  ![v7406.toNat]
def k0_off1960 (i : grid0.Coords) : Fin 3 → Nat :=
  let c1_i32_4654 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7406 : BitVec 32 := Scalar.subi c1_i32_4654 v9
  let arg1 : BitVec 32 := BitVec.ofNat 32 (i 1).val
  let c2_i32_4650 : BitVec 32 := 2#32
  let v7402 : BitVec 32 := Scalar.muli arg1 c2_i32_4650
  let c1_i32_4651 : BitVec 32 := 1#32
  let v7403 : BitVec 32 := Scalar.addi v7402 c1_i32_4651
  let c256_i32_4652 : BitVec 32 := 256#32
  let v7404 : BitVec 32 := Scalar.muli v7403 c256_i32_4652
  let c228_i32_4653 : BitVec 32 := 228#32
  let v7405 : BitVec 32 := Scalar.addi v7404 c228_i32_4653
  let c8_i32_4657 : BitVec 32 := 8#32
  let v7410 : BitVec 32 := Scalar.muli v7405 c8_i32_4657
  let v7411 : BitVec 32 := v7410
  let c0_i32_4658 : BitVec 32 := 0#32
  ![v7406.toNat, v7411.toNat, 0]
def k0_off1961 (v7408 : BitVec 32) : Fin 2 → Nat :=
  let v7409 : BitVec 32 := v7408
  let c0_i32_4659 : BitVec 32 := 0#32
  ![v7409.toNat, 0]

def k0_chk486 (i : grid0.Coords) (v7408 : BitVec 32) : Prop :=
  (∀ (k0_h2 : k0_cond2 i = 1#1), 8 ∣ (k0_mult971 v7408).toNat) ∧
  (∀ (k0_h2 : k0_cond2 i = 1#1), ∀ a, (k0_off1961 v7408) a + S8x128.size a ≤ S131072x128.size a)
theorem k0_mult971_dvd : ∀ (i : grid0.Coords) (v7408 : BitVec 32) (k0_hw486 : k0_chk486 i v7408), ∀ (k0_h2 : k0_cond2 i = 1#1), 8 ∣ (k0_mult971 v7408).toNat := fun i v7408 k0_hw486 k0_h2 => k0_hw486.1 k0_h2
theorem k0_off1961_inb : ∀ (i : grid0.Coords) (v7408 : BitVec 32) (k0_hw486 : k0_chk486 i v7408), ∀ (k0_h2 : k0_cond2 i = 1#1), ∀ a, (k0_off1961 v7408) a + S8x128.size a ≤ S131072x128.size a := fun i v7408 k0_hw486 k0_h2 => k0_hw486.2 k0_h2

def k0_off1962 (i : grid0.Coords) : Fin 3 → Nat :=
  let c0_4665 : Index := 0#32
  let c0_4666 : Index := 0#32
  let arg1 : BitVec 32 := BitVec.ofNat 32 (i 1).val
  let c2_i32_4660 : BitVec 32 := 2#32
  let v7417 : BitVec 32 := Scalar.muli arg1 c2_i32_4660
  let c1_i32_4661 : BitVec 32 := 1#32
  let v7418 : BitVec 32 := Scalar.addi v7417 c1_i32_4661
  let c256_i32_4662 : BitVec 32 := 256#32
  let v7419 : BitVec 32 := Scalar.muli v7418 c256_i32_4662
  let c229_i32_4663 : BitVec 32 := 229#32
  let v7420 : BitVec 32 := Scalar.addi v7419 c229_i32_4663
  let v7422 : Index := Scalar.indexCast v7420
  ![0, 0, v7422.toNat]
def k0_mult973 (v7423 : BitVec 32) : BitVec 32 :=
  v7423

def k0_mult974 (i : grid0.Coords) : BitVec 32 :=
  let arg1 : BitVec 32 := BitVec.ofNat 32 (i 1).val
  let c2_i32_4660 : BitVec 32 := 2#32
  let v7417 : BitVec 32 := Scalar.muli arg1 c2_i32_4660
  let c1_i32_4661 : BitVec 32 := 1#32
  let v7418 : BitVec 32 := Scalar.addi v7417 c1_i32_4661
  let c256_i32_4662 : BitVec 32 := 256#32
  let v7419 : BitVec 32 := Scalar.muli v7418 c256_i32_4662
  let c229_i32_4663 : BitVec 32 := 229#32
  let v7420 : BitVec 32 := Scalar.addi v7419 c229_i32_4663
  let c8_i32_4667 : BitVec 32 := 8#32
  let v7425 : BitVec 32 := Scalar.muli v7420 c8_i32_4667
  v7425
def k0_off1963 (i : grid0.Coords) : Fin 1 → Nat :=
  let c1_i32_4664 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7421 : BitVec 32 := Scalar.subi c1_i32_4664 v9
  ![v7421.toNat]
def k0_off1964 (i : grid0.Coords) : Fin 3 → Nat :=
  let c1_i32_4664 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7421 : BitVec 32 := Scalar.subi c1_i32_4664 v9
  let arg1 : BitVec 32 := BitVec.ofNat 32 (i 1).val
  let c2_i32_4660 : BitVec 32 := 2#32
  let v7417 : BitVec 32 := Scalar.muli arg1 c2_i32_4660
  let c1_i32_4661 : BitVec 32 := 1#32
  let v7418 : BitVec 32 := Scalar.addi v7417 c1_i32_4661
  let c256_i32_4662 : BitVec 32 := 256#32
  let v7419 : BitVec 32 := Scalar.muli v7418 c256_i32_4662
  let c229_i32_4663 : BitVec 32 := 229#32
  let v7420 : BitVec 32 := Scalar.addi v7419 c229_i32_4663
  let c8_i32_4667 : BitVec 32 := 8#32
  let v7425 : BitVec 32 := Scalar.muli v7420 c8_i32_4667
  let v7426 : BitVec 32 := v7425
  let c0_i32_4668 : BitVec 32 := 0#32
  ![v7421.toNat, v7426.toNat, 0]
def k0_off1965 (v7423 : BitVec 32) : Fin 2 → Nat :=
  let v7424 : BitVec 32 := v7423
  let c0_i32_4669 : BitVec 32 := 0#32
  ![v7424.toNat, 0]

def k0_chk487 (i : grid0.Coords) (v7423 : BitVec 32) : Prop :=
  (∀ (k0_h2 : k0_cond2 i = 1#1), 8 ∣ (k0_mult973 v7423).toNat) ∧
  (∀ (k0_h2 : k0_cond2 i = 1#1), ∀ a, (k0_off1965 v7423) a + S8x128.size a ≤ S131072x128.size a)
theorem k0_mult973_dvd : ∀ (i : grid0.Coords) (v7423 : BitVec 32) (k0_hw487 : k0_chk487 i v7423), ∀ (k0_h2 : k0_cond2 i = 1#1), 8 ∣ (k0_mult973 v7423).toNat := fun i v7423 k0_hw487 k0_h2 => k0_hw487.1 k0_h2
theorem k0_off1965_inb : ∀ (i : grid0.Coords) (v7423 : BitVec 32) (k0_hw487 : k0_chk487 i v7423), ∀ (k0_h2 : k0_cond2 i = 1#1), ∀ a, (k0_off1965 v7423) a + S8x128.size a ≤ S131072x128.size a := fun i v7423 k0_hw487 k0_h2 => k0_hw487.2 k0_h2

def k0_off1966 (i : grid0.Coords) : Fin 3 → Nat :=
  let c0_4675 : Index := 0#32
  let c0_4676 : Index := 0#32
  let arg1 : BitVec 32 := BitVec.ofNat 32 (i 1).val
  let c2_i32_4670 : BitVec 32 := 2#32
  let v7432 : BitVec 32 := Scalar.muli arg1 c2_i32_4670
  let c1_i32_4671 : BitVec 32 := 1#32
  let v7433 : BitVec 32 := Scalar.addi v7432 c1_i32_4671
  let c256_i32_4672 : BitVec 32 := 256#32
  let v7434 : BitVec 32 := Scalar.muli v7433 c256_i32_4672
  let c230_i32_4673 : BitVec 32 := 230#32
  let v7435 : BitVec 32 := Scalar.addi v7434 c230_i32_4673
  let v7437 : Index := Scalar.indexCast v7435
  ![0, 0, v7437.toNat]
def k0_mult975 (v7438 : BitVec 32) : BitVec 32 :=
  v7438

def k0_mult976 (i : grid0.Coords) : BitVec 32 :=
  let arg1 : BitVec 32 := BitVec.ofNat 32 (i 1).val
  let c2_i32_4670 : BitVec 32 := 2#32
  let v7432 : BitVec 32 := Scalar.muli arg1 c2_i32_4670
  let c1_i32_4671 : BitVec 32 := 1#32
  let v7433 : BitVec 32 := Scalar.addi v7432 c1_i32_4671
  let c256_i32_4672 : BitVec 32 := 256#32
  let v7434 : BitVec 32 := Scalar.muli v7433 c256_i32_4672
  let c230_i32_4673 : BitVec 32 := 230#32
  let v7435 : BitVec 32 := Scalar.addi v7434 c230_i32_4673
  let c8_i32_4677 : BitVec 32 := 8#32
  let v7440 : BitVec 32 := Scalar.muli v7435 c8_i32_4677
  v7440
def k0_off1967 (i : grid0.Coords) : Fin 1 → Nat :=
  let c1_i32_4674 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7436 : BitVec 32 := Scalar.subi c1_i32_4674 v9
  ![v7436.toNat]
def k0_off1968 (i : grid0.Coords) : Fin 3 → Nat :=
  let c1_i32_4674 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7436 : BitVec 32 := Scalar.subi c1_i32_4674 v9
  let arg1 : BitVec 32 := BitVec.ofNat 32 (i 1).val
  let c2_i32_4670 : BitVec 32 := 2#32
  let v7432 : BitVec 32 := Scalar.muli arg1 c2_i32_4670
  let c1_i32_4671 : BitVec 32 := 1#32
  let v7433 : BitVec 32 := Scalar.addi v7432 c1_i32_4671
  let c256_i32_4672 : BitVec 32 := 256#32
  let v7434 : BitVec 32 := Scalar.muli v7433 c256_i32_4672
  let c230_i32_4673 : BitVec 32 := 230#32
  let v7435 : BitVec 32 := Scalar.addi v7434 c230_i32_4673
  let c8_i32_4677 : BitVec 32 := 8#32
  let v7440 : BitVec 32 := Scalar.muli v7435 c8_i32_4677
  let v7441 : BitVec 32 := v7440
  let c0_i32_4678 : BitVec 32 := 0#32
  ![v7436.toNat, v7441.toNat, 0]
def k0_off1969 (v7438 : BitVec 32) : Fin 2 → Nat :=
  let v7439 : BitVec 32 := v7438
  let c0_i32_4679 : BitVec 32 := 0#32
  ![v7439.toNat, 0]

def k0_chk488 (i : grid0.Coords) (v7438 : BitVec 32) : Prop :=
  (∀ (k0_h2 : k0_cond2 i = 1#1), 8 ∣ (k0_mult975 v7438).toNat) ∧
  (∀ (k0_h2 : k0_cond2 i = 1#1), ∀ a, (k0_off1969 v7438) a + S8x128.size a ≤ S131072x128.size a)
theorem k0_mult975_dvd : ∀ (i : grid0.Coords) (v7438 : BitVec 32) (k0_hw488 : k0_chk488 i v7438), ∀ (k0_h2 : k0_cond2 i = 1#1), 8 ∣ (k0_mult975 v7438).toNat := fun i v7438 k0_hw488 k0_h2 => k0_hw488.1 k0_h2
theorem k0_off1969_inb : ∀ (i : grid0.Coords) (v7438 : BitVec 32) (k0_hw488 : k0_chk488 i v7438), ∀ (k0_h2 : k0_cond2 i = 1#1), ∀ a, (k0_off1969 v7438) a + S8x128.size a ≤ S131072x128.size a := fun i v7438 k0_hw488 k0_h2 => k0_hw488.2 k0_h2

def k0_off1970 (i : grid0.Coords) : Fin 3 → Nat :=
  let c0_4685 : Index := 0#32
  let c0_4686 : Index := 0#32
  let arg1 : BitVec 32 := BitVec.ofNat 32 (i 1).val
  let c2_i32_4680 : BitVec 32 := 2#32
  let v7447 : BitVec 32 := Scalar.muli arg1 c2_i32_4680
  let c1_i32_4681 : BitVec 32 := 1#32
  let v7448 : BitVec 32 := Scalar.addi v7447 c1_i32_4681
  let c256_i32_4682 : BitVec 32 := 256#32
  let v7449 : BitVec 32 := Scalar.muli v7448 c256_i32_4682
  let c231_i32_4683 : BitVec 32 := 231#32
  let v7450 : BitVec 32 := Scalar.addi v7449 c231_i32_4683
  let v7452 : Index := Scalar.indexCast v7450
  ![0, 0, v7452.toNat]
def k0_mult977 (v7453 : BitVec 32) : BitVec 32 :=
  v7453

def k0_mult978 (i : grid0.Coords) : BitVec 32 :=
  let arg1 : BitVec 32 := BitVec.ofNat 32 (i 1).val
  let c2_i32_4680 : BitVec 32 := 2#32
  let v7447 : BitVec 32 := Scalar.muli arg1 c2_i32_4680
  let c1_i32_4681 : BitVec 32 := 1#32
  let v7448 : BitVec 32 := Scalar.addi v7447 c1_i32_4681
  let c256_i32_4682 : BitVec 32 := 256#32
  let v7449 : BitVec 32 := Scalar.muli v7448 c256_i32_4682
  let c231_i32_4683 : BitVec 32 := 231#32
  let v7450 : BitVec 32 := Scalar.addi v7449 c231_i32_4683
  let c8_i32_4687 : BitVec 32 := 8#32
  let v7455 : BitVec 32 := Scalar.muli v7450 c8_i32_4687
  v7455
def k0_off1971 (i : grid0.Coords) : Fin 1 → Nat :=
  let c1_i32_4684 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7451 : BitVec 32 := Scalar.subi c1_i32_4684 v9
  ![v7451.toNat]
def k0_off1972 (i : grid0.Coords) : Fin 3 → Nat :=
  let c1_i32_4684 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7451 : BitVec 32 := Scalar.subi c1_i32_4684 v9
  let arg1 : BitVec 32 := BitVec.ofNat 32 (i 1).val
  let c2_i32_4680 : BitVec 32 := 2#32
  let v7447 : BitVec 32 := Scalar.muli arg1 c2_i32_4680
  let c1_i32_4681 : BitVec 32 := 1#32
  let v7448 : BitVec 32 := Scalar.addi v7447 c1_i32_4681
  let c256_i32_4682 : BitVec 32 := 256#32
  let v7449 : BitVec 32 := Scalar.muli v7448 c256_i32_4682
  let c231_i32_4683 : BitVec 32 := 231#32
  let v7450 : BitVec 32 := Scalar.addi v7449 c231_i32_4683
  let c8_i32_4687 : BitVec 32 := 8#32
  let v7455 : BitVec 32 := Scalar.muli v7450 c8_i32_4687
  let v7456 : BitVec 32 := v7455
  let c0_i32_4688 : BitVec 32 := 0#32
  ![v7451.toNat, v7456.toNat, 0]
def k0_off1973 (v7453 : BitVec 32) : Fin 2 → Nat :=
  let v7454 : BitVec 32 := v7453
  let c0_i32_4689 : BitVec 32 := 0#32
  ![v7454.toNat, 0]

def k0_chk489 (i : grid0.Coords) (v7453 : BitVec 32) : Prop :=
  (∀ (k0_h2 : k0_cond2 i = 1#1), 8 ∣ (k0_mult977 v7453).toNat) ∧
  (∀ (k0_h2 : k0_cond2 i = 1#1), ∀ a, (k0_off1973 v7453) a + S8x128.size a ≤ S131072x128.size a)
theorem k0_mult977_dvd : ∀ (i : grid0.Coords) (v7453 : BitVec 32) (k0_hw489 : k0_chk489 i v7453), ∀ (k0_h2 : k0_cond2 i = 1#1), 8 ∣ (k0_mult977 v7453).toNat := fun i v7453 k0_hw489 k0_h2 => k0_hw489.1 k0_h2
theorem k0_off1973_inb : ∀ (i : grid0.Coords) (v7453 : BitVec 32) (k0_hw489 : k0_chk489 i v7453), ∀ (k0_h2 : k0_cond2 i = 1#1), ∀ a, (k0_off1973 v7453) a + S8x128.size a ≤ S131072x128.size a := fun i v7453 k0_hw489 k0_h2 => k0_hw489.2 k0_h2

def k0_off1974 (i : grid0.Coords) : Fin 3 → Nat :=
  let c0_4695 : Index := 0#32
  let c0_4696 : Index := 0#32
  let arg1 : BitVec 32 := BitVec.ofNat 32 (i 1).val
  let c2_i32_4690 : BitVec 32 := 2#32
  let v7462 : BitVec 32 := Scalar.muli arg1 c2_i32_4690
  let c1_i32_4691 : BitVec 32 := 1#32
  let v7463 : BitVec 32 := Scalar.addi v7462 c1_i32_4691
  let c256_i32_4692 : BitVec 32 := 256#32
  let v7464 : BitVec 32 := Scalar.muli v7463 c256_i32_4692
  let c232_i32_4693 : BitVec 32 := 232#32
  let v7465 : BitVec 32 := Scalar.addi v7464 c232_i32_4693
  let v7467 : Index := Scalar.indexCast v7465
  ![0, 0, v7467.toNat]
def k0_mult979 (v7468 : BitVec 32) : BitVec 32 :=
  v7468

def k0_mult980 (i : grid0.Coords) : BitVec 32 :=
  let arg1 : BitVec 32 := BitVec.ofNat 32 (i 1).val
  let c2_i32_4690 : BitVec 32 := 2#32
  let v7462 : BitVec 32 := Scalar.muli arg1 c2_i32_4690
  let c1_i32_4691 : BitVec 32 := 1#32
  let v7463 : BitVec 32 := Scalar.addi v7462 c1_i32_4691
  let c256_i32_4692 : BitVec 32 := 256#32
  let v7464 : BitVec 32 := Scalar.muli v7463 c256_i32_4692
  let c232_i32_4693 : BitVec 32 := 232#32
  let v7465 : BitVec 32 := Scalar.addi v7464 c232_i32_4693
  let c8_i32_4697 : BitVec 32 := 8#32
  let v7470 : BitVec 32 := Scalar.muli v7465 c8_i32_4697
  v7470
def k0_off1975 (i : grid0.Coords) : Fin 1 → Nat :=
  let c1_i32_4694 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7466 : BitVec 32 := Scalar.subi c1_i32_4694 v9
  ![v7466.toNat]
def k0_off1976 (i : grid0.Coords) : Fin 3 → Nat :=
  let c1_i32_4694 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7466 : BitVec 32 := Scalar.subi c1_i32_4694 v9
  let arg1 : BitVec 32 := BitVec.ofNat 32 (i 1).val
  let c2_i32_4690 : BitVec 32 := 2#32
  let v7462 : BitVec 32 := Scalar.muli arg1 c2_i32_4690
  let c1_i32_4691 : BitVec 32 := 1#32
  let v7463 : BitVec 32 := Scalar.addi v7462 c1_i32_4691
  let c256_i32_4692 : BitVec 32 := 256#32
  let v7464 : BitVec 32 := Scalar.muli v7463 c256_i32_4692
  let c232_i32_4693 : BitVec 32 := 232#32
  let v7465 : BitVec 32 := Scalar.addi v7464 c232_i32_4693
  let c8_i32_4697 : BitVec 32 := 8#32
  let v7470 : BitVec 32 := Scalar.muli v7465 c8_i32_4697
  let v7471 : BitVec 32 := v7470
  let c0_i32_4698 : BitVec 32 := 0#32
  ![v7466.toNat, v7471.toNat, 0]
def k0_off1977 (v7468 : BitVec 32) : Fin 2 → Nat :=
  let v7469 : BitVec 32 := v7468
  let c0_i32_4699 : BitVec 32 := 0#32
  ![v7469.toNat, 0]

def k0_chk490 (i : grid0.Coords) (v7468 : BitVec 32) : Prop :=
  (∀ (k0_h2 : k0_cond2 i = 1#1), 8 ∣ (k0_mult979 v7468).toNat) ∧
  (∀ (k0_h2 : k0_cond2 i = 1#1), ∀ a, (k0_off1977 v7468) a + S8x128.size a ≤ S131072x128.size a)
theorem k0_mult979_dvd : ∀ (i : grid0.Coords) (v7468 : BitVec 32) (k0_hw490 : k0_chk490 i v7468), ∀ (k0_h2 : k0_cond2 i = 1#1), 8 ∣ (k0_mult979 v7468).toNat := fun i v7468 k0_hw490 k0_h2 => k0_hw490.1 k0_h2
theorem k0_off1977_inb : ∀ (i : grid0.Coords) (v7468 : BitVec 32) (k0_hw490 : k0_chk490 i v7468), ∀ (k0_h2 : k0_cond2 i = 1#1), ∀ a, (k0_off1977 v7468) a + S8x128.size a ≤ S131072x128.size a := fun i v7468 k0_hw490 k0_h2 => k0_hw490.2 k0_h2

def k0_off1978 (i : grid0.Coords) : Fin 3 → Nat :=
  let c0_4705 : Index := 0#32
  let c0_4706 : Index := 0#32
  let arg1 : BitVec 32 := BitVec.ofNat 32 (i 1).val
  let c2_i32_4700 : BitVec 32 := 2#32
  let v7477 : BitVec 32 := Scalar.muli arg1 c2_i32_4700
  let c1_i32_4701 : BitVec 32 := 1#32
  let v7478 : BitVec 32 := Scalar.addi v7477 c1_i32_4701
  let c256_i32_4702 : BitVec 32 := 256#32
  let v7479 : BitVec 32 := Scalar.muli v7478 c256_i32_4702
  let c233_i32_4703 : BitVec 32 := 233#32
  let v7480 : BitVec 32 := Scalar.addi v7479 c233_i32_4703
  let v7482 : Index := Scalar.indexCast v7480
  ![0, 0, v7482.toNat]
def k0_mult981 (v7483 : BitVec 32) : BitVec 32 :=
  v7483

def k0_mult982 (i : grid0.Coords) : BitVec 32 :=
  let arg1 : BitVec 32 := BitVec.ofNat 32 (i 1).val
  let c2_i32_4700 : BitVec 32 := 2#32
  let v7477 : BitVec 32 := Scalar.muli arg1 c2_i32_4700
  let c1_i32_4701 : BitVec 32 := 1#32
  let v7478 : BitVec 32 := Scalar.addi v7477 c1_i32_4701
  let c256_i32_4702 : BitVec 32 := 256#32
  let v7479 : BitVec 32 := Scalar.muli v7478 c256_i32_4702
  let c233_i32_4703 : BitVec 32 := 233#32
  let v7480 : BitVec 32 := Scalar.addi v7479 c233_i32_4703
  let c8_i32_4707 : BitVec 32 := 8#32
  let v7485 : BitVec 32 := Scalar.muli v7480 c8_i32_4707
  v7485
def k0_off1979 (i : grid0.Coords) : Fin 1 → Nat :=
  let c1_i32_4704 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7481 : BitVec 32 := Scalar.subi c1_i32_4704 v9
  ![v7481.toNat]
def k0_off1980 (i : grid0.Coords) : Fin 3 → Nat :=
  let c1_i32_4704 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7481 : BitVec 32 := Scalar.subi c1_i32_4704 v9
  let arg1 : BitVec 32 := BitVec.ofNat 32 (i 1).val
  let c2_i32_4700 : BitVec 32 := 2#32
  let v7477 : BitVec 32 := Scalar.muli arg1 c2_i32_4700
  let c1_i32_4701 : BitVec 32 := 1#32
  let v7478 : BitVec 32 := Scalar.addi v7477 c1_i32_4701
  let c256_i32_4702 : BitVec 32 := 256#32
  let v7479 : BitVec 32 := Scalar.muli v7478 c256_i32_4702
  let c233_i32_4703 : BitVec 32 := 233#32
  let v7480 : BitVec 32 := Scalar.addi v7479 c233_i32_4703
  let c8_i32_4707 : BitVec 32 := 8#32
  let v7485 : BitVec 32 := Scalar.muli v7480 c8_i32_4707
  let v7486 : BitVec 32 := v7485
  let c0_i32_4708 : BitVec 32 := 0#32
  ![v7481.toNat, v7486.toNat, 0]
def k0_off1981 (v7483 : BitVec 32) : Fin 2 → Nat :=
  let v7484 : BitVec 32 := v7483
  let c0_i32_4709 : BitVec 32 := 0#32
  ![v7484.toNat, 0]

def k0_chk491 (i : grid0.Coords) (v7483 : BitVec 32) : Prop :=
  (∀ (k0_h2 : k0_cond2 i = 1#1), 8 ∣ (k0_mult981 v7483).toNat) ∧
  (∀ (k0_h2 : k0_cond2 i = 1#1), ∀ a, (k0_off1981 v7483) a + S8x128.size a ≤ S131072x128.size a)
theorem k0_mult981_dvd : ∀ (i : grid0.Coords) (v7483 : BitVec 32) (k0_hw491 : k0_chk491 i v7483), ∀ (k0_h2 : k0_cond2 i = 1#1), 8 ∣ (k0_mult981 v7483).toNat := fun i v7483 k0_hw491 k0_h2 => k0_hw491.1 k0_h2
theorem k0_off1981_inb : ∀ (i : grid0.Coords) (v7483 : BitVec 32) (k0_hw491 : k0_chk491 i v7483), ∀ (k0_h2 : k0_cond2 i = 1#1), ∀ a, (k0_off1981 v7483) a + S8x128.size a ≤ S131072x128.size a := fun i v7483 k0_hw491 k0_h2 => k0_hw491.2 k0_h2

def k0_off1982 (i : grid0.Coords) : Fin 3 → Nat :=
  let c0_4715 : Index := 0#32
  let c0_4716 : Index := 0#32
  let arg1 : BitVec 32 := BitVec.ofNat 32 (i 1).val
  let c2_i32_4710 : BitVec 32 := 2#32
  let v7492 : BitVec 32 := Scalar.muli arg1 c2_i32_4710
  let c1_i32_4711 : BitVec 32 := 1#32
  let v7493 : BitVec 32 := Scalar.addi v7492 c1_i32_4711
  let c256_i32_4712 : BitVec 32 := 256#32
  let v7494 : BitVec 32 := Scalar.muli v7493 c256_i32_4712
  let c234_i32_4713 : BitVec 32 := 234#32
  let v7495 : BitVec 32 := Scalar.addi v7494 c234_i32_4713
  let v7497 : Index := Scalar.indexCast v7495
  ![0, 0, v7497.toNat]
def k0_mult983 (v7498 : BitVec 32) : BitVec 32 :=
  v7498

def k0_mult984 (i : grid0.Coords) : BitVec 32 :=
  let arg1 : BitVec 32 := BitVec.ofNat 32 (i 1).val
  let c2_i32_4710 : BitVec 32 := 2#32
  let v7492 : BitVec 32 := Scalar.muli arg1 c2_i32_4710
  let c1_i32_4711 : BitVec 32 := 1#32
  let v7493 : BitVec 32 := Scalar.addi v7492 c1_i32_4711
  let c256_i32_4712 : BitVec 32 := 256#32
  let v7494 : BitVec 32 := Scalar.muli v7493 c256_i32_4712
  let c234_i32_4713 : BitVec 32 := 234#32
  let v7495 : BitVec 32 := Scalar.addi v7494 c234_i32_4713
  let c8_i32_4717 : BitVec 32 := 8#32
  let v7500 : BitVec 32 := Scalar.muli v7495 c8_i32_4717
  v7500
def k0_off1983 (i : grid0.Coords) : Fin 1 → Nat :=
  let c1_i32_4714 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7496 : BitVec 32 := Scalar.subi c1_i32_4714 v9
  ![v7496.toNat]
def k0_off1984 (i : grid0.Coords) : Fin 3 → Nat :=
  let c1_i32_4714 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7496 : BitVec 32 := Scalar.subi c1_i32_4714 v9
  let arg1 : BitVec 32 := BitVec.ofNat 32 (i 1).val
  let c2_i32_4710 : BitVec 32 := 2#32
  let v7492 : BitVec 32 := Scalar.muli arg1 c2_i32_4710
  let c1_i32_4711 : BitVec 32 := 1#32
  let v7493 : BitVec 32 := Scalar.addi v7492 c1_i32_4711
  let c256_i32_4712 : BitVec 32 := 256#32
  let v7494 : BitVec 32 := Scalar.muli v7493 c256_i32_4712
  let c234_i32_4713 : BitVec 32 := 234#32
  let v7495 : BitVec 32 := Scalar.addi v7494 c234_i32_4713
  let c8_i32_4717 : BitVec 32 := 8#32
  let v7500 : BitVec 32 := Scalar.muli v7495 c8_i32_4717
  let v7501 : BitVec 32 := v7500
  let c0_i32_4718 : BitVec 32 := 0#32
  ![v7496.toNat, v7501.toNat, 0]
def k0_off1985 (v7498 : BitVec 32) : Fin 2 → Nat :=
  let v7499 : BitVec 32 := v7498
  let c0_i32_4719 : BitVec 32 := 0#32
  ![v7499.toNat, 0]

def k0_chk492 (i : grid0.Coords) (v7498 : BitVec 32) : Prop :=
  (∀ (k0_h2 : k0_cond2 i = 1#1), 8 ∣ (k0_mult983 v7498).toNat) ∧
  (∀ (k0_h2 : k0_cond2 i = 1#1), ∀ a, (k0_off1985 v7498) a + S8x128.size a ≤ S131072x128.size a)
theorem k0_mult983_dvd : ∀ (i : grid0.Coords) (v7498 : BitVec 32) (k0_hw492 : k0_chk492 i v7498), ∀ (k0_h2 : k0_cond2 i = 1#1), 8 ∣ (k0_mult983 v7498).toNat := fun i v7498 k0_hw492 k0_h2 => k0_hw492.1 k0_h2
theorem k0_off1985_inb : ∀ (i : grid0.Coords) (v7498 : BitVec 32) (k0_hw492 : k0_chk492 i v7498), ∀ (k0_h2 : k0_cond2 i = 1#1), ∀ a, (k0_off1985 v7498) a + S8x128.size a ≤ S131072x128.size a := fun i v7498 k0_hw492 k0_h2 => k0_hw492.2 k0_h2

def k0_off1986 (i : grid0.Coords) : Fin 3 → Nat :=
  let c0_4725 : Index := 0#32
  let c0_4726 : Index := 0#32
  let arg1 : BitVec 32 := BitVec.ofNat 32 (i 1).val
  let c2_i32_4720 : BitVec 32 := 2#32
  let v7507 : BitVec 32 := Scalar.muli arg1 c2_i32_4720
  let c1_i32_4721 : BitVec 32 := 1#32
  let v7508 : BitVec 32 := Scalar.addi v7507 c1_i32_4721
  let c256_i32_4722 : BitVec 32 := 256#32
  let v7509 : BitVec 32 := Scalar.muli v7508 c256_i32_4722
  let c235_i32_4723 : BitVec 32 := 235#32
  let v7510 : BitVec 32 := Scalar.addi v7509 c235_i32_4723
  let v7512 : Index := Scalar.indexCast v7510
  ![0, 0, v7512.toNat]
def k0_mult985 (v7513 : BitVec 32) : BitVec 32 :=
  v7513

def k0_mult986 (i : grid0.Coords) : BitVec 32 :=
  let arg1 : BitVec 32 := BitVec.ofNat 32 (i 1).val
  let c2_i32_4720 : BitVec 32 := 2#32
  let v7507 : BitVec 32 := Scalar.muli arg1 c2_i32_4720
  let c1_i32_4721 : BitVec 32 := 1#32
  let v7508 : BitVec 32 := Scalar.addi v7507 c1_i32_4721
  let c256_i32_4722 : BitVec 32 := 256#32
  let v7509 : BitVec 32 := Scalar.muli v7508 c256_i32_4722
  let c235_i32_4723 : BitVec 32 := 235#32
  let v7510 : BitVec 32 := Scalar.addi v7509 c235_i32_4723
  let c8_i32_4727 : BitVec 32 := 8#32
  let v7515 : BitVec 32 := Scalar.muli v7510 c8_i32_4727
  v7515
def k0_off1987 (i : grid0.Coords) : Fin 1 → Nat :=
  let c1_i32_4724 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7511 : BitVec 32 := Scalar.subi c1_i32_4724 v9
  ![v7511.toNat]
def k0_off1988 (i : grid0.Coords) : Fin 3 → Nat :=
  let c1_i32_4724 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7511 : BitVec 32 := Scalar.subi c1_i32_4724 v9
  let arg1 : BitVec 32 := BitVec.ofNat 32 (i 1).val
  let c2_i32_4720 : BitVec 32 := 2#32
  let v7507 : BitVec 32 := Scalar.muli arg1 c2_i32_4720
  let c1_i32_4721 : BitVec 32 := 1#32
  let v7508 : BitVec 32 := Scalar.addi v7507 c1_i32_4721
  let c256_i32_4722 : BitVec 32 := 256#32
  let v7509 : BitVec 32 := Scalar.muli v7508 c256_i32_4722
  let c235_i32_4723 : BitVec 32 := 235#32
  let v7510 : BitVec 32 := Scalar.addi v7509 c235_i32_4723
  let c8_i32_4727 : BitVec 32 := 8#32
  let v7515 : BitVec 32 := Scalar.muli v7510 c8_i32_4727
  let v7516 : BitVec 32 := v7515
  let c0_i32_4728 : BitVec 32 := 0#32
  ![v7511.toNat, v7516.toNat, 0]
def k0_off1989 (v7513 : BitVec 32) : Fin 2 → Nat :=
  let v7514 : BitVec 32 := v7513
  let c0_i32_4729 : BitVec 32 := 0#32
  ![v7514.toNat, 0]

def k0_chk493 (i : grid0.Coords) (v7513 : BitVec 32) : Prop :=
  (∀ (k0_h2 : k0_cond2 i = 1#1), 8 ∣ (k0_mult985 v7513).toNat) ∧
  (∀ (k0_h2 : k0_cond2 i = 1#1), ∀ a, (k0_off1989 v7513) a + S8x128.size a ≤ S131072x128.size a)
theorem k0_mult985_dvd : ∀ (i : grid0.Coords) (v7513 : BitVec 32) (k0_hw493 : k0_chk493 i v7513), ∀ (k0_h2 : k0_cond2 i = 1#1), 8 ∣ (k0_mult985 v7513).toNat := fun i v7513 k0_hw493 k0_h2 => k0_hw493.1 k0_h2
theorem k0_off1989_inb : ∀ (i : grid0.Coords) (v7513 : BitVec 32) (k0_hw493 : k0_chk493 i v7513), ∀ (k0_h2 : k0_cond2 i = 1#1), ∀ a, (k0_off1989 v7513) a + S8x128.size a ≤ S131072x128.size a := fun i v7513 k0_hw493 k0_h2 => k0_hw493.2 k0_h2

def k0_off1990 (i : grid0.Coords) : Fin 3 → Nat :=
  let c0_4735 : Index := 0#32
  let c0_4736 : Index := 0#32
  let arg1 : BitVec 32 := BitVec.ofNat 32 (i 1).val
  let c2_i32_4730 : BitVec 32 := 2#32
  let v7522 : BitVec 32 := Scalar.muli arg1 c2_i32_4730
  let c1_i32_4731 : BitVec 32 := 1#32
  let v7523 : BitVec 32 := Scalar.addi v7522 c1_i32_4731
  let c256_i32_4732 : BitVec 32 := 256#32
  let v7524 : BitVec 32 := Scalar.muli v7523 c256_i32_4732
  let c236_i32_4733 : BitVec 32 := 236#32
  let v7525 : BitVec 32 := Scalar.addi v7524 c236_i32_4733
  let v7527 : Index := Scalar.indexCast v7525
  ![0, 0, v7527.toNat]
def k0_mult987 (v7528 : BitVec 32) : BitVec 32 :=
  v7528

def k0_mult988 (i : grid0.Coords) : BitVec 32 :=
  let arg1 : BitVec 32 := BitVec.ofNat 32 (i 1).val
  let c2_i32_4730 : BitVec 32 := 2#32
  let v7522 : BitVec 32 := Scalar.muli arg1 c2_i32_4730
  let c1_i32_4731 : BitVec 32 := 1#32
  let v7523 : BitVec 32 := Scalar.addi v7522 c1_i32_4731
  let c256_i32_4732 : BitVec 32 := 256#32
  let v7524 : BitVec 32 := Scalar.muli v7523 c256_i32_4732
  let c236_i32_4733 : BitVec 32 := 236#32
  let v7525 : BitVec 32 := Scalar.addi v7524 c236_i32_4733
  let c8_i32_4737 : BitVec 32 := 8#32
  let v7530 : BitVec 32 := Scalar.muli v7525 c8_i32_4737
  v7530
def k0_off1991 (i : grid0.Coords) : Fin 1 → Nat :=
  let c1_i32_4734 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7526 : BitVec 32 := Scalar.subi c1_i32_4734 v9
  ![v7526.toNat]
def k0_off1992 (i : grid0.Coords) : Fin 3 → Nat :=
  let c1_i32_4734 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7526 : BitVec 32 := Scalar.subi c1_i32_4734 v9
  let arg1 : BitVec 32 := BitVec.ofNat 32 (i 1).val
  let c2_i32_4730 : BitVec 32 := 2#32
  let v7522 : BitVec 32 := Scalar.muli arg1 c2_i32_4730
  let c1_i32_4731 : BitVec 32 := 1#32
  let v7523 : BitVec 32 := Scalar.addi v7522 c1_i32_4731
  let c256_i32_4732 : BitVec 32 := 256#32
  let v7524 : BitVec 32 := Scalar.muli v7523 c256_i32_4732
  let c236_i32_4733 : BitVec 32 := 236#32
  let v7525 : BitVec 32 := Scalar.addi v7524 c236_i32_4733
  let c8_i32_4737 : BitVec 32 := 8#32
  let v7530 : BitVec 32 := Scalar.muli v7525 c8_i32_4737
  let v7531 : BitVec 32 := v7530
  let c0_i32_4738 : BitVec 32 := 0#32
  ![v7526.toNat, v7531.toNat, 0]
def k0_off1993 (v7528 : BitVec 32) : Fin 2 → Nat :=
  let v7529 : BitVec 32 := v7528
  let c0_i32_4739 : BitVec 32 := 0#32
  ![v7529.toNat, 0]

def k0_chk494 (i : grid0.Coords) (v7528 : BitVec 32) : Prop :=
  (∀ (k0_h2 : k0_cond2 i = 1#1), 8 ∣ (k0_mult987 v7528).toNat) ∧
  (∀ (k0_h2 : k0_cond2 i = 1#1), ∀ a, (k0_off1993 v7528) a + S8x128.size a ≤ S131072x128.size a)
theorem k0_mult987_dvd : ∀ (i : grid0.Coords) (v7528 : BitVec 32) (k0_hw494 : k0_chk494 i v7528), ∀ (k0_h2 : k0_cond2 i = 1#1), 8 ∣ (k0_mult987 v7528).toNat := fun i v7528 k0_hw494 k0_h2 => k0_hw494.1 k0_h2
theorem k0_off1993_inb : ∀ (i : grid0.Coords) (v7528 : BitVec 32) (k0_hw494 : k0_chk494 i v7528), ∀ (k0_h2 : k0_cond2 i = 1#1), ∀ a, (k0_off1993 v7528) a + S8x128.size a ≤ S131072x128.size a := fun i v7528 k0_hw494 k0_h2 => k0_hw494.2 k0_h2

def k0_off1994 (i : grid0.Coords) : Fin 3 → Nat :=
  let c0_4745 : Index := 0#32
  let c0_4746 : Index := 0#32
  let arg1 : BitVec 32 := BitVec.ofNat 32 (i 1).val
  let c2_i32_4740 : BitVec 32 := 2#32
  let v7537 : BitVec 32 := Scalar.muli arg1 c2_i32_4740
  let c1_i32_4741 : BitVec 32 := 1#32
  let v7538 : BitVec 32 := Scalar.addi v7537 c1_i32_4741
  let c256_i32_4742 : BitVec 32 := 256#32
  let v7539 : BitVec 32 := Scalar.muli v7538 c256_i32_4742
  let c237_i32_4743 : BitVec 32 := 237#32
  let v7540 : BitVec 32 := Scalar.addi v7539 c237_i32_4743
  let v7542 : Index := Scalar.indexCast v7540
  ![0, 0, v7542.toNat]
def k0_mult989 (v7543 : BitVec 32) : BitVec 32 :=
  v7543

def k0_mult990 (i : grid0.Coords) : BitVec 32 :=
  let arg1 : BitVec 32 := BitVec.ofNat 32 (i 1).val
  let c2_i32_4740 : BitVec 32 := 2#32
  let v7537 : BitVec 32 := Scalar.muli arg1 c2_i32_4740
  let c1_i32_4741 : BitVec 32 := 1#32
  let v7538 : BitVec 32 := Scalar.addi v7537 c1_i32_4741
  let c256_i32_4742 : BitVec 32 := 256#32
  let v7539 : BitVec 32 := Scalar.muli v7538 c256_i32_4742
  let c237_i32_4743 : BitVec 32 := 237#32
  let v7540 : BitVec 32 := Scalar.addi v7539 c237_i32_4743
  let c8_i32_4747 : BitVec 32 := 8#32
  let v7545 : BitVec 32 := Scalar.muli v7540 c8_i32_4747
  v7545
def k0_off1995 (i : grid0.Coords) : Fin 1 → Nat :=
  let c1_i32_4744 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7541 : BitVec 32 := Scalar.subi c1_i32_4744 v9
  ![v7541.toNat]
def k0_off1996 (i : grid0.Coords) : Fin 3 → Nat :=
  let c1_i32_4744 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7541 : BitVec 32 := Scalar.subi c1_i32_4744 v9
  let arg1 : BitVec 32 := BitVec.ofNat 32 (i 1).val
  let c2_i32_4740 : BitVec 32 := 2#32
  let v7537 : BitVec 32 := Scalar.muli arg1 c2_i32_4740
  let c1_i32_4741 : BitVec 32 := 1#32
  let v7538 : BitVec 32 := Scalar.addi v7537 c1_i32_4741
  let c256_i32_4742 : BitVec 32 := 256#32
  let v7539 : BitVec 32 := Scalar.muli v7538 c256_i32_4742
  let c237_i32_4743 : BitVec 32 := 237#32
  let v7540 : BitVec 32 := Scalar.addi v7539 c237_i32_4743
  let c8_i32_4747 : BitVec 32 := 8#32
  let v7545 : BitVec 32 := Scalar.muli v7540 c8_i32_4747
  let v7546 : BitVec 32 := v7545
  let c0_i32_4748 : BitVec 32 := 0#32
  ![v7541.toNat, v7546.toNat, 0]
def k0_off1997 (v7543 : BitVec 32) : Fin 2 → Nat :=
  let v7544 : BitVec 32 := v7543
  let c0_i32_4749 : BitVec 32 := 0#32
  ![v7544.toNat, 0]

def k0_chk495 (i : grid0.Coords) (v7543 : BitVec 32) : Prop :=
  (∀ (k0_h2 : k0_cond2 i = 1#1), 8 ∣ (k0_mult989 v7543).toNat) ∧
  (∀ (k0_h2 : k0_cond2 i = 1#1), ∀ a, (k0_off1997 v7543) a + S8x128.size a ≤ S131072x128.size a)
theorem k0_mult989_dvd : ∀ (i : grid0.Coords) (v7543 : BitVec 32) (k0_hw495 : k0_chk495 i v7543), ∀ (k0_h2 : k0_cond2 i = 1#1), 8 ∣ (k0_mult989 v7543).toNat := fun i v7543 k0_hw495 k0_h2 => k0_hw495.1 k0_h2
theorem k0_off1997_inb : ∀ (i : grid0.Coords) (v7543 : BitVec 32) (k0_hw495 : k0_chk495 i v7543), ∀ (k0_h2 : k0_cond2 i = 1#1), ∀ a, (k0_off1997 v7543) a + S8x128.size a ≤ S131072x128.size a := fun i v7543 k0_hw495 k0_h2 => k0_hw495.2 k0_h2

def k0_off1998 (i : grid0.Coords) : Fin 3 → Nat :=
  let c0_4755 : Index := 0#32
  let c0_4756 : Index := 0#32
  let arg1 : BitVec 32 := BitVec.ofNat 32 (i 1).val
  let c2_i32_4750 : BitVec 32 := 2#32
  let v7552 : BitVec 32 := Scalar.muli arg1 c2_i32_4750
  let c1_i32_4751 : BitVec 32 := 1#32
  let v7553 : BitVec 32 := Scalar.addi v7552 c1_i32_4751
  let c256_i32_4752 : BitVec 32 := 256#32
  let v7554 : BitVec 32 := Scalar.muli v7553 c256_i32_4752
  let c238_i32_4753 : BitVec 32 := 238#32
  let v7555 : BitVec 32 := Scalar.addi v7554 c238_i32_4753
  let v7557 : Index := Scalar.indexCast v7555
  ![0, 0, v7557.toNat]
def k0_mult991 (v7558 : BitVec 32) : BitVec 32 :=
  v7558

def k0_mult992 (i : grid0.Coords) : BitVec 32 :=
  let arg1 : BitVec 32 := BitVec.ofNat 32 (i 1).val
  let c2_i32_4750 : BitVec 32 := 2#32
  let v7552 : BitVec 32 := Scalar.muli arg1 c2_i32_4750
  let c1_i32_4751 : BitVec 32 := 1#32
  let v7553 : BitVec 32 := Scalar.addi v7552 c1_i32_4751
  let c256_i32_4752 : BitVec 32 := 256#32
  let v7554 : BitVec 32 := Scalar.muli v7553 c256_i32_4752
  let c238_i32_4753 : BitVec 32 := 238#32
  let v7555 : BitVec 32 := Scalar.addi v7554 c238_i32_4753
  let c8_i32_4757 : BitVec 32 := 8#32
  let v7560 : BitVec 32 := Scalar.muli v7555 c8_i32_4757
  v7560
def k0_off1999 (i : grid0.Coords) : Fin 1 → Nat :=
  let c1_i32_4754 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7556 : BitVec 32 := Scalar.subi c1_i32_4754 v9
  ![v7556.toNat]
def k0_off2000 (i : grid0.Coords) : Fin 3 → Nat :=
  let c1_i32_4754 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7556 : BitVec 32 := Scalar.subi c1_i32_4754 v9
  let arg1 : BitVec 32 := BitVec.ofNat 32 (i 1).val
  let c2_i32_4750 : BitVec 32 := 2#32
  let v7552 : BitVec 32 := Scalar.muli arg1 c2_i32_4750
  let c1_i32_4751 : BitVec 32 := 1#32
  let v7553 : BitVec 32 := Scalar.addi v7552 c1_i32_4751
  let c256_i32_4752 : BitVec 32 := 256#32
  let v7554 : BitVec 32 := Scalar.muli v7553 c256_i32_4752
  let c238_i32_4753 : BitVec 32 := 238#32
  let v7555 : BitVec 32 := Scalar.addi v7554 c238_i32_4753
  let c8_i32_4757 : BitVec 32 := 8#32
  let v7560 : BitVec 32 := Scalar.muli v7555 c8_i32_4757
  let v7561 : BitVec 32 := v7560
  let c0_i32_4758 : BitVec 32 := 0#32
  ![v7556.toNat, v7561.toNat, 0]
def k0_off2001 (v7558 : BitVec 32) : Fin 2 → Nat :=
  let v7559 : BitVec 32 := v7558
  let c0_i32_4759 : BitVec 32 := 0#32
  ![v7559.toNat, 0]

def k0_chk496 (i : grid0.Coords) (v7558 : BitVec 32) : Prop :=
  (∀ (k0_h2 : k0_cond2 i = 1#1), 8 ∣ (k0_mult991 v7558).toNat) ∧
  (∀ (k0_h2 : k0_cond2 i = 1#1), ∀ a, (k0_off2001 v7558) a + S8x128.size a ≤ S131072x128.size a)
theorem k0_mult991_dvd : ∀ (i : grid0.Coords) (v7558 : BitVec 32) (k0_hw496 : k0_chk496 i v7558), ∀ (k0_h2 : k0_cond2 i = 1#1), 8 ∣ (k0_mult991 v7558).toNat := fun i v7558 k0_hw496 k0_h2 => k0_hw496.1 k0_h2
theorem k0_off2001_inb : ∀ (i : grid0.Coords) (v7558 : BitVec 32) (k0_hw496 : k0_chk496 i v7558), ∀ (k0_h2 : k0_cond2 i = 1#1), ∀ a, (k0_off2001 v7558) a + S8x128.size a ≤ S131072x128.size a := fun i v7558 k0_hw496 k0_h2 => k0_hw496.2 k0_h2

def k0_off2002 (i : grid0.Coords) : Fin 3 → Nat :=
  let c0_4765 : Index := 0#32
  let c0_4766 : Index := 0#32
  let arg1 : BitVec 32 := BitVec.ofNat 32 (i 1).val
  let c2_i32_4760 : BitVec 32 := 2#32
  let v7567 : BitVec 32 := Scalar.muli arg1 c2_i32_4760
  let c1_i32_4761 : BitVec 32 := 1#32
  let v7568 : BitVec 32 := Scalar.addi v7567 c1_i32_4761
  let c256_i32_4762 : BitVec 32 := 256#32
  let v7569 : BitVec 32 := Scalar.muli v7568 c256_i32_4762
  let c239_i32_4763 : BitVec 32 := 239#32
  let v7570 : BitVec 32 := Scalar.addi v7569 c239_i32_4763
  let v7572 : Index := Scalar.indexCast v7570
  ![0, 0, v7572.toNat]
def k0_mult993 (v7573 : BitVec 32) : BitVec 32 :=
  v7573

def k0_mult994 (i : grid0.Coords) : BitVec 32 :=
  let arg1 : BitVec 32 := BitVec.ofNat 32 (i 1).val
  let c2_i32_4760 : BitVec 32 := 2#32
  let v7567 : BitVec 32 := Scalar.muli arg1 c2_i32_4760
  let c1_i32_4761 : BitVec 32 := 1#32
  let v7568 : BitVec 32 := Scalar.addi v7567 c1_i32_4761
  let c256_i32_4762 : BitVec 32 := 256#32
  let v7569 : BitVec 32 := Scalar.muli v7568 c256_i32_4762
  let c239_i32_4763 : BitVec 32 := 239#32
  let v7570 : BitVec 32 := Scalar.addi v7569 c239_i32_4763
  let c8_i32_4767 : BitVec 32 := 8#32
  let v7575 : BitVec 32 := Scalar.muli v7570 c8_i32_4767
  v7575
def k0_off2003 (i : grid0.Coords) : Fin 1 → Nat :=
  let c1_i32_4764 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7571 : BitVec 32 := Scalar.subi c1_i32_4764 v9
  ![v7571.toNat]
def k0_off2004 (i : grid0.Coords) : Fin 3 → Nat :=
  let c1_i32_4764 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7571 : BitVec 32 := Scalar.subi c1_i32_4764 v9
  let arg1 : BitVec 32 := BitVec.ofNat 32 (i 1).val
  let c2_i32_4760 : BitVec 32 := 2#32
  let v7567 : BitVec 32 := Scalar.muli arg1 c2_i32_4760
  let c1_i32_4761 : BitVec 32 := 1#32
  let v7568 : BitVec 32 := Scalar.addi v7567 c1_i32_4761
  let c256_i32_4762 : BitVec 32 := 256#32
  let v7569 : BitVec 32 := Scalar.muli v7568 c256_i32_4762
  let c239_i32_4763 : BitVec 32 := 239#32
  let v7570 : BitVec 32 := Scalar.addi v7569 c239_i32_4763
  let c8_i32_4767 : BitVec 32 := 8#32
  let v7575 : BitVec 32 := Scalar.muli v7570 c8_i32_4767
  let v7576 : BitVec 32 := v7575
  let c0_i32_4768 : BitVec 32 := 0#32
  ![v7571.toNat, v7576.toNat, 0]
def k0_off2005 (v7573 : BitVec 32) : Fin 2 → Nat :=
  let v7574 : BitVec 32 := v7573
  let c0_i32_4769 : BitVec 32 := 0#32
  ![v7574.toNat, 0]

def k0_chk497 (i : grid0.Coords) (v7573 : BitVec 32) : Prop :=
  (∀ (k0_h2 : k0_cond2 i = 1#1), 8 ∣ (k0_mult993 v7573).toNat) ∧
  (∀ (k0_h2 : k0_cond2 i = 1#1), ∀ a, (k0_off2005 v7573) a + S8x128.size a ≤ S131072x128.size a)
theorem k0_mult993_dvd : ∀ (i : grid0.Coords) (v7573 : BitVec 32) (k0_hw497 : k0_chk497 i v7573), ∀ (k0_h2 : k0_cond2 i = 1#1), 8 ∣ (k0_mult993 v7573).toNat := fun i v7573 k0_hw497 k0_h2 => k0_hw497.1 k0_h2
theorem k0_off2005_inb : ∀ (i : grid0.Coords) (v7573 : BitVec 32) (k0_hw497 : k0_chk497 i v7573), ∀ (k0_h2 : k0_cond2 i = 1#1), ∀ a, (k0_off2005 v7573) a + S8x128.size a ≤ S131072x128.size a := fun i v7573 k0_hw497 k0_h2 => k0_hw497.2 k0_h2

def k0_off2006 (i : grid0.Coords) : Fin 3 → Nat :=
  let c0_4775 : Index := 0#32
  let c0_4776 : Index := 0#32
  let arg1 : BitVec 32 := BitVec.ofNat 32 (i 1).val
  let c2_i32_4770 : BitVec 32 := 2#32
  let v7582 : BitVec 32 := Scalar.muli arg1 c2_i32_4770
  let c1_i32_4771 : BitVec 32 := 1#32
  let v7583 : BitVec 32 := Scalar.addi v7582 c1_i32_4771
  let c256_i32_4772 : BitVec 32 := 256#32
  let v7584 : BitVec 32 := Scalar.muli v7583 c256_i32_4772
  let c240_i32_4773 : BitVec 32 := 240#32
  let v7585 : BitVec 32 := Scalar.addi v7584 c240_i32_4773
  let v7587 : Index := Scalar.indexCast v7585
  ![0, 0, v7587.toNat]
def k0_mult995 (v7588 : BitVec 32) : BitVec 32 :=
  v7588

def k0_mult996 (i : grid0.Coords) : BitVec 32 :=
  let arg1 : BitVec 32 := BitVec.ofNat 32 (i 1).val
  let c2_i32_4770 : BitVec 32 := 2#32
  let v7582 : BitVec 32 := Scalar.muli arg1 c2_i32_4770
  let c1_i32_4771 : BitVec 32 := 1#32
  let v7583 : BitVec 32 := Scalar.addi v7582 c1_i32_4771
  let c256_i32_4772 : BitVec 32 := 256#32
  let v7584 : BitVec 32 := Scalar.muli v7583 c256_i32_4772
  let c240_i32_4773 : BitVec 32 := 240#32
  let v7585 : BitVec 32 := Scalar.addi v7584 c240_i32_4773
  let c8_i32_4777 : BitVec 32 := 8#32
  let v7590 : BitVec 32 := Scalar.muli v7585 c8_i32_4777
  v7590
def k0_off2007 (i : grid0.Coords) : Fin 1 → Nat :=
  let c1_i32_4774 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7586 : BitVec 32 := Scalar.subi c1_i32_4774 v9
  ![v7586.toNat]
def k0_off2008 (i : grid0.Coords) : Fin 3 → Nat :=
  let c1_i32_4774 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7586 : BitVec 32 := Scalar.subi c1_i32_4774 v9
  let arg1 : BitVec 32 := BitVec.ofNat 32 (i 1).val
  let c2_i32_4770 : BitVec 32 := 2#32
  let v7582 : BitVec 32 := Scalar.muli arg1 c2_i32_4770
  let c1_i32_4771 : BitVec 32 := 1#32
  let v7583 : BitVec 32 := Scalar.addi v7582 c1_i32_4771
  let c256_i32_4772 : BitVec 32 := 256#32
  let v7584 : BitVec 32 := Scalar.muli v7583 c256_i32_4772
  let c240_i32_4773 : BitVec 32 := 240#32
  let v7585 : BitVec 32 := Scalar.addi v7584 c240_i32_4773
  let c8_i32_4777 : BitVec 32 := 8#32
  let v7590 : BitVec 32 := Scalar.muli v7585 c8_i32_4777
  let v7591 : BitVec 32 := v7590
  let c0_i32_4778 : BitVec 32 := 0#32
  ![v7586.toNat, v7591.toNat, 0]
def k0_off2009 (v7588 : BitVec 32) : Fin 2 → Nat :=
  let v7589 : BitVec 32 := v7588
  let c0_i32_4779 : BitVec 32 := 0#32
  ![v7589.toNat, 0]

def k0_chk498 (i : grid0.Coords) (v7588 : BitVec 32) : Prop :=
  (∀ (k0_h2 : k0_cond2 i = 1#1), 8 ∣ (k0_mult995 v7588).toNat) ∧
  (∀ (k0_h2 : k0_cond2 i = 1#1), ∀ a, (k0_off2009 v7588) a + S8x128.size a ≤ S131072x128.size a)
theorem k0_mult995_dvd : ∀ (i : grid0.Coords) (v7588 : BitVec 32) (k0_hw498 : k0_chk498 i v7588), ∀ (k0_h2 : k0_cond2 i = 1#1), 8 ∣ (k0_mult995 v7588).toNat := fun i v7588 k0_hw498 k0_h2 => k0_hw498.1 k0_h2
theorem k0_off2009_inb : ∀ (i : grid0.Coords) (v7588 : BitVec 32) (k0_hw498 : k0_chk498 i v7588), ∀ (k0_h2 : k0_cond2 i = 1#1), ∀ a, (k0_off2009 v7588) a + S8x128.size a ≤ S131072x128.size a := fun i v7588 k0_hw498 k0_h2 => k0_hw498.2 k0_h2

def k0_off2010 (i : grid0.Coords) : Fin 3 → Nat :=
  let c0_4785 : Index := 0#32
  let c0_4786 : Index := 0#32
  let arg1 : BitVec 32 := BitVec.ofNat 32 (i 1).val
  let c2_i32_4780 : BitVec 32 := 2#32
  let v7597 : BitVec 32 := Scalar.muli arg1 c2_i32_4780
  let c1_i32_4781 : BitVec 32 := 1#32
  let v7598 : BitVec 32 := Scalar.addi v7597 c1_i32_4781
  let c256_i32_4782 : BitVec 32 := 256#32
  let v7599 : BitVec 32 := Scalar.muli v7598 c256_i32_4782
  let c241_i32_4783 : BitVec 32 := 241#32
  let v7600 : BitVec 32 := Scalar.addi v7599 c241_i32_4783
  let v7602 : Index := Scalar.indexCast v7600
  ![0, 0, v7602.toNat]
def k0_mult997 (v7603 : BitVec 32) : BitVec 32 :=
  v7603

def k0_mult998 (i : grid0.Coords) : BitVec 32 :=
  let arg1 : BitVec 32 := BitVec.ofNat 32 (i 1).val
  let c2_i32_4780 : BitVec 32 := 2#32
  let v7597 : BitVec 32 := Scalar.muli arg1 c2_i32_4780
  let c1_i32_4781 : BitVec 32 := 1#32
  let v7598 : BitVec 32 := Scalar.addi v7597 c1_i32_4781
  let c256_i32_4782 : BitVec 32 := 256#32
  let v7599 : BitVec 32 := Scalar.muli v7598 c256_i32_4782
  let c241_i32_4783 : BitVec 32 := 241#32
  let v7600 : BitVec 32 := Scalar.addi v7599 c241_i32_4783
  let c8_i32_4787 : BitVec 32 := 8#32
  let v7605 : BitVec 32 := Scalar.muli v7600 c8_i32_4787
  v7605
def k0_off2011 (i : grid0.Coords) : Fin 1 → Nat :=
  let c1_i32_4784 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7601 : BitVec 32 := Scalar.subi c1_i32_4784 v9
  ![v7601.toNat]
def k0_off2012 (i : grid0.Coords) : Fin 3 → Nat :=
  let c1_i32_4784 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7601 : BitVec 32 := Scalar.subi c1_i32_4784 v9
  let arg1 : BitVec 32 := BitVec.ofNat 32 (i 1).val
  let c2_i32_4780 : BitVec 32 := 2#32
  let v7597 : BitVec 32 := Scalar.muli arg1 c2_i32_4780
  let c1_i32_4781 : BitVec 32 := 1#32
  let v7598 : BitVec 32 := Scalar.addi v7597 c1_i32_4781
  let c256_i32_4782 : BitVec 32 := 256#32
  let v7599 : BitVec 32 := Scalar.muli v7598 c256_i32_4782
  let c241_i32_4783 : BitVec 32 := 241#32
  let v7600 : BitVec 32 := Scalar.addi v7599 c241_i32_4783
  let c8_i32_4787 : BitVec 32 := 8#32
  let v7605 : BitVec 32 := Scalar.muli v7600 c8_i32_4787
  let v7606 : BitVec 32 := v7605
  let c0_i32_4788 : BitVec 32 := 0#32
  ![v7601.toNat, v7606.toNat, 0]
def k0_off2013 (v7603 : BitVec 32) : Fin 2 → Nat :=
  let v7604 : BitVec 32 := v7603
  let c0_i32_4789 : BitVec 32 := 0#32
  ![v7604.toNat, 0]

def k0_chk499 (i : grid0.Coords) (v7603 : BitVec 32) : Prop :=
  (∀ (k0_h2 : k0_cond2 i = 1#1), 8 ∣ (k0_mult997 v7603).toNat) ∧
  (∀ (k0_h2 : k0_cond2 i = 1#1), ∀ a, (k0_off2013 v7603) a + S8x128.size a ≤ S131072x128.size a)
theorem k0_mult997_dvd : ∀ (i : grid0.Coords) (v7603 : BitVec 32) (k0_hw499 : k0_chk499 i v7603), ∀ (k0_h2 : k0_cond2 i = 1#1), 8 ∣ (k0_mult997 v7603).toNat := fun i v7603 k0_hw499 k0_h2 => k0_hw499.1 k0_h2
theorem k0_off2013_inb : ∀ (i : grid0.Coords) (v7603 : BitVec 32) (k0_hw499 : k0_chk499 i v7603), ∀ (k0_h2 : k0_cond2 i = 1#1), ∀ a, (k0_off2013 v7603) a + S8x128.size a ≤ S131072x128.size a := fun i v7603 k0_hw499 k0_h2 => k0_hw499.2 k0_h2

def k0_off2014 (i : grid0.Coords) : Fin 3 → Nat :=
  let c0_4795 : Index := 0#32
  let c0_4796 : Index := 0#32
  let arg1 : BitVec 32 := BitVec.ofNat 32 (i 1).val
  let c2_i32_4790 : BitVec 32 := 2#32
  let v7612 : BitVec 32 := Scalar.muli arg1 c2_i32_4790
  let c1_i32_4791 : BitVec 32 := 1#32
  let v7613 : BitVec 32 := Scalar.addi v7612 c1_i32_4791
  let c256_i32_4792 : BitVec 32 := 256#32
  let v7614 : BitVec 32 := Scalar.muli v7613 c256_i32_4792
  let c242_i32_4793 : BitVec 32 := 242#32
  let v7615 : BitVec 32 := Scalar.addi v7614 c242_i32_4793
  let v7617 : Index := Scalar.indexCast v7615
  ![0, 0, v7617.toNat]
def k0_mult999 (v7618 : BitVec 32) : BitVec 32 :=
  v7618

def k0_mult1000 (i : grid0.Coords) : BitVec 32 :=
  let arg1 : BitVec 32 := BitVec.ofNat 32 (i 1).val
  let c2_i32_4790 : BitVec 32 := 2#32
  let v7612 : BitVec 32 := Scalar.muli arg1 c2_i32_4790
  let c1_i32_4791 : BitVec 32 := 1#32
  let v7613 : BitVec 32 := Scalar.addi v7612 c1_i32_4791
  let c256_i32_4792 : BitVec 32 := 256#32
  let v7614 : BitVec 32 := Scalar.muli v7613 c256_i32_4792
  let c242_i32_4793 : BitVec 32 := 242#32
  let v7615 : BitVec 32 := Scalar.addi v7614 c242_i32_4793
  let c8_i32_4797 : BitVec 32 := 8#32
  let v7620 : BitVec 32 := Scalar.muli v7615 c8_i32_4797
  v7620
def k0_off2015 (i : grid0.Coords) : Fin 1 → Nat :=
  let c1_i32_4794 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7616 : BitVec 32 := Scalar.subi c1_i32_4794 v9
  ![v7616.toNat]
def k0_off2016 (i : grid0.Coords) : Fin 3 → Nat :=
  let c1_i32_4794 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7616 : BitVec 32 := Scalar.subi c1_i32_4794 v9
  let arg1 : BitVec 32 := BitVec.ofNat 32 (i 1).val
  let c2_i32_4790 : BitVec 32 := 2#32
  let v7612 : BitVec 32 := Scalar.muli arg1 c2_i32_4790
  let c1_i32_4791 : BitVec 32 := 1#32
  let v7613 : BitVec 32 := Scalar.addi v7612 c1_i32_4791
  let c256_i32_4792 : BitVec 32 := 256#32
  let v7614 : BitVec 32 := Scalar.muli v7613 c256_i32_4792
  let c242_i32_4793 : BitVec 32 := 242#32
  let v7615 : BitVec 32 := Scalar.addi v7614 c242_i32_4793
  let c8_i32_4797 : BitVec 32 := 8#32
  let v7620 : BitVec 32 := Scalar.muli v7615 c8_i32_4797
  let v7621 : BitVec 32 := v7620
  let c0_i32_4798 : BitVec 32 := 0#32
  ![v7616.toNat, v7621.toNat, 0]
def k0_off2017 (v7618 : BitVec 32) : Fin 2 → Nat :=
  let v7619 : BitVec 32 := v7618
  let c0_i32_4799 : BitVec 32 := 0#32
  ![v7619.toNat, 0]

def k0_chk500 (i : grid0.Coords) (v7618 : BitVec 32) : Prop :=
  (∀ (k0_h2 : k0_cond2 i = 1#1), 8 ∣ (k0_mult999 v7618).toNat) ∧
  (∀ (k0_h2 : k0_cond2 i = 1#1), ∀ a, (k0_off2017 v7618) a + S8x128.size a ≤ S131072x128.size a)
theorem k0_mult999_dvd : ∀ (i : grid0.Coords) (v7618 : BitVec 32) (k0_hw500 : k0_chk500 i v7618), ∀ (k0_h2 : k0_cond2 i = 1#1), 8 ∣ (k0_mult999 v7618).toNat := fun i v7618 k0_hw500 k0_h2 => k0_hw500.1 k0_h2
theorem k0_off2017_inb : ∀ (i : grid0.Coords) (v7618 : BitVec 32) (k0_hw500 : k0_chk500 i v7618), ∀ (k0_h2 : k0_cond2 i = 1#1), ∀ a, (k0_off2017 v7618) a + S8x128.size a ≤ S131072x128.size a := fun i v7618 k0_hw500 k0_h2 => k0_hw500.2 k0_h2

def k0_off2018 (i : grid0.Coords) : Fin 3 → Nat :=
  let c0_4805 : Index := 0#32
  let c0_4806 : Index := 0#32
  let arg1 : BitVec 32 := BitVec.ofNat 32 (i 1).val
  let c2_i32_4800 : BitVec 32 := 2#32
  let v7627 : BitVec 32 := Scalar.muli arg1 c2_i32_4800
  let c1_i32_4801 : BitVec 32 := 1#32
  let v7628 : BitVec 32 := Scalar.addi v7627 c1_i32_4801
  let c256_i32_4802 : BitVec 32 := 256#32
  let v7629 : BitVec 32 := Scalar.muli v7628 c256_i32_4802
  let c243_i32_4803 : BitVec 32 := 243#32
  let v7630 : BitVec 32 := Scalar.addi v7629 c243_i32_4803
  let v7632 : Index := Scalar.indexCast v7630
  ![0, 0, v7632.toNat]
def k0_mult1001 (v7633 : BitVec 32) : BitVec 32 :=
  v7633

def k0_mult1002 (i : grid0.Coords) : BitVec 32 :=
  let arg1 : BitVec 32 := BitVec.ofNat 32 (i 1).val
  let c2_i32_4800 : BitVec 32 := 2#32
  let v7627 : BitVec 32 := Scalar.muli arg1 c2_i32_4800
  let c1_i32_4801 : BitVec 32 := 1#32
  let v7628 : BitVec 32 := Scalar.addi v7627 c1_i32_4801
  let c256_i32_4802 : BitVec 32 := 256#32
  let v7629 : BitVec 32 := Scalar.muli v7628 c256_i32_4802
  let c243_i32_4803 : BitVec 32 := 243#32
  let v7630 : BitVec 32 := Scalar.addi v7629 c243_i32_4803
  let c8_i32_4807 : BitVec 32 := 8#32
  let v7635 : BitVec 32 := Scalar.muli v7630 c8_i32_4807
  v7635
def k0_off2019 (i : grid0.Coords) : Fin 1 → Nat :=
  let c1_i32_4804 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7631 : BitVec 32 := Scalar.subi c1_i32_4804 v9
  ![v7631.toNat]
def k0_off2020 (i : grid0.Coords) : Fin 3 → Nat :=
  let c1_i32_4804 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7631 : BitVec 32 := Scalar.subi c1_i32_4804 v9
  let arg1 : BitVec 32 := BitVec.ofNat 32 (i 1).val
  let c2_i32_4800 : BitVec 32 := 2#32
  let v7627 : BitVec 32 := Scalar.muli arg1 c2_i32_4800
  let c1_i32_4801 : BitVec 32 := 1#32
  let v7628 : BitVec 32 := Scalar.addi v7627 c1_i32_4801
  let c256_i32_4802 : BitVec 32 := 256#32
  let v7629 : BitVec 32 := Scalar.muli v7628 c256_i32_4802
  let c243_i32_4803 : BitVec 32 := 243#32
  let v7630 : BitVec 32 := Scalar.addi v7629 c243_i32_4803
  let c8_i32_4807 : BitVec 32 := 8#32
  let v7635 : BitVec 32 := Scalar.muli v7630 c8_i32_4807
  let v7636 : BitVec 32 := v7635
  let c0_i32_4808 : BitVec 32 := 0#32
  ![v7631.toNat, v7636.toNat, 0]
def k0_off2021 (v7633 : BitVec 32) : Fin 2 → Nat :=
  let v7634 : BitVec 32 := v7633
  let c0_i32_4809 : BitVec 32 := 0#32
  ![v7634.toNat, 0]

def k0_chk501 (i : grid0.Coords) (v7633 : BitVec 32) : Prop :=
  (∀ (k0_h2 : k0_cond2 i = 1#1), 8 ∣ (k0_mult1001 v7633).toNat) ∧
  (∀ (k0_h2 : k0_cond2 i = 1#1), ∀ a, (k0_off2021 v7633) a + S8x128.size a ≤ S131072x128.size a)
theorem k0_mult1001_dvd : ∀ (i : grid0.Coords) (v7633 : BitVec 32) (k0_hw501 : k0_chk501 i v7633), ∀ (k0_h2 : k0_cond2 i = 1#1), 8 ∣ (k0_mult1001 v7633).toNat := fun i v7633 k0_hw501 k0_h2 => k0_hw501.1 k0_h2
theorem k0_off2021_inb : ∀ (i : grid0.Coords) (v7633 : BitVec 32) (k0_hw501 : k0_chk501 i v7633), ∀ (k0_h2 : k0_cond2 i = 1#1), ∀ a, (k0_off2021 v7633) a + S8x128.size a ≤ S131072x128.size a := fun i v7633 k0_hw501 k0_h2 => k0_hw501.2 k0_h2

def k0_off2022 (i : grid0.Coords) : Fin 3 → Nat :=
  let c0_4815 : Index := 0#32
  let c0_4816 : Index := 0#32
  let arg1 : BitVec 32 := BitVec.ofNat 32 (i 1).val
  let c2_i32_4810 : BitVec 32 := 2#32
  let v7642 : BitVec 32 := Scalar.muli arg1 c2_i32_4810
  let c1_i32_4811 : BitVec 32 := 1#32
  let v7643 : BitVec 32 := Scalar.addi v7642 c1_i32_4811
  let c256_i32_4812 : BitVec 32 := 256#32
  let v7644 : BitVec 32 := Scalar.muli v7643 c256_i32_4812
  let c244_i32_4813 : BitVec 32 := 244#32
  let v7645 : BitVec 32 := Scalar.addi v7644 c244_i32_4813
  let v7647 : Index := Scalar.indexCast v7645
  ![0, 0, v7647.toNat]
def k0_mult1003 (v7648 : BitVec 32) : BitVec 32 :=
  v7648

def k0_mult1004 (i : grid0.Coords) : BitVec 32 :=
  let arg1 : BitVec 32 := BitVec.ofNat 32 (i 1).val
  let c2_i32_4810 : BitVec 32 := 2#32
  let v7642 : BitVec 32 := Scalar.muli arg1 c2_i32_4810
  let c1_i32_4811 : BitVec 32 := 1#32
  let v7643 : BitVec 32 := Scalar.addi v7642 c1_i32_4811
  let c256_i32_4812 : BitVec 32 := 256#32
  let v7644 : BitVec 32 := Scalar.muli v7643 c256_i32_4812
  let c244_i32_4813 : BitVec 32 := 244#32
  let v7645 : BitVec 32 := Scalar.addi v7644 c244_i32_4813
  let c8_i32_4817 : BitVec 32 := 8#32
  let v7650 : BitVec 32 := Scalar.muli v7645 c8_i32_4817
  v7650
def k0_off2023 (i : grid0.Coords) : Fin 1 → Nat :=
  let c1_i32_4814 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7646 : BitVec 32 := Scalar.subi c1_i32_4814 v9
  ![v7646.toNat]
def k0_off2024 (i : grid0.Coords) : Fin 3 → Nat :=
  let c1_i32_4814 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7646 : BitVec 32 := Scalar.subi c1_i32_4814 v9
  let arg1 : BitVec 32 := BitVec.ofNat 32 (i 1).val
  let c2_i32_4810 : BitVec 32 := 2#32
  let v7642 : BitVec 32 := Scalar.muli arg1 c2_i32_4810
  let c1_i32_4811 : BitVec 32 := 1#32
  let v7643 : BitVec 32 := Scalar.addi v7642 c1_i32_4811
  let c256_i32_4812 : BitVec 32 := 256#32
  let v7644 : BitVec 32 := Scalar.muli v7643 c256_i32_4812
  let c244_i32_4813 : BitVec 32 := 244#32
  let v7645 : BitVec 32 := Scalar.addi v7644 c244_i32_4813
  let c8_i32_4817 : BitVec 32 := 8#32
  let v7650 : BitVec 32 := Scalar.muli v7645 c8_i32_4817
  let v7651 : BitVec 32 := v7650
  let c0_i32_4818 : BitVec 32 := 0#32
  ![v7646.toNat, v7651.toNat, 0]
def k0_off2025 (v7648 : BitVec 32) : Fin 2 → Nat :=
  let v7649 : BitVec 32 := v7648
  let c0_i32_4819 : BitVec 32 := 0#32
  ![v7649.toNat, 0]

def k0_chk502 (i : grid0.Coords) (v7648 : BitVec 32) : Prop :=
  (∀ (k0_h2 : k0_cond2 i = 1#1), 8 ∣ (k0_mult1003 v7648).toNat) ∧
  (∀ (k0_h2 : k0_cond2 i = 1#1), ∀ a, (k0_off2025 v7648) a + S8x128.size a ≤ S131072x128.size a)
theorem k0_mult1003_dvd : ∀ (i : grid0.Coords) (v7648 : BitVec 32) (k0_hw502 : k0_chk502 i v7648), ∀ (k0_h2 : k0_cond2 i = 1#1), 8 ∣ (k0_mult1003 v7648).toNat := fun i v7648 k0_hw502 k0_h2 => k0_hw502.1 k0_h2
theorem k0_off2025_inb : ∀ (i : grid0.Coords) (v7648 : BitVec 32) (k0_hw502 : k0_chk502 i v7648), ∀ (k0_h2 : k0_cond2 i = 1#1), ∀ a, (k0_off2025 v7648) a + S8x128.size a ≤ S131072x128.size a := fun i v7648 k0_hw502 k0_h2 => k0_hw502.2 k0_h2

def k0_off2026 (i : grid0.Coords) : Fin 3 → Nat :=
  let c0_4825 : Index := 0#32
  let c0_4826 : Index := 0#32
  let arg1 : BitVec 32 := BitVec.ofNat 32 (i 1).val
  let c2_i32_4820 : BitVec 32 := 2#32
  let v7657 : BitVec 32 := Scalar.muli arg1 c2_i32_4820
  let c1_i32_4821 : BitVec 32 := 1#32
  let v7658 : BitVec 32 := Scalar.addi v7657 c1_i32_4821
  let c256_i32_4822 : BitVec 32 := 256#32
  let v7659 : BitVec 32 := Scalar.muli v7658 c256_i32_4822
  let c245_i32_4823 : BitVec 32 := 245#32
  let v7660 : BitVec 32 := Scalar.addi v7659 c245_i32_4823
  let v7662 : Index := Scalar.indexCast v7660
  ![0, 0, v7662.toNat]
def k0_mult1005 (v7663 : BitVec 32) : BitVec 32 :=
  v7663

def k0_mult1006 (i : grid0.Coords) : BitVec 32 :=
  let arg1 : BitVec 32 := BitVec.ofNat 32 (i 1).val
  let c2_i32_4820 : BitVec 32 := 2#32
  let v7657 : BitVec 32 := Scalar.muli arg1 c2_i32_4820
  let c1_i32_4821 : BitVec 32 := 1#32
  let v7658 : BitVec 32 := Scalar.addi v7657 c1_i32_4821
  let c256_i32_4822 : BitVec 32 := 256#32
  let v7659 : BitVec 32 := Scalar.muli v7658 c256_i32_4822
  let c245_i32_4823 : BitVec 32 := 245#32
  let v7660 : BitVec 32 := Scalar.addi v7659 c245_i32_4823
  let c8_i32_4827 : BitVec 32 := 8#32
  let v7665 : BitVec 32 := Scalar.muli v7660 c8_i32_4827
  v7665
def k0_off2027 (i : grid0.Coords) : Fin 1 → Nat :=
  let c1_i32_4824 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7661 : BitVec 32 := Scalar.subi c1_i32_4824 v9
  ![v7661.toNat]
def k0_off2028 (i : grid0.Coords) : Fin 3 → Nat :=
  let c1_i32_4824 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7661 : BitVec 32 := Scalar.subi c1_i32_4824 v9
  let arg1 : BitVec 32 := BitVec.ofNat 32 (i 1).val
  let c2_i32_4820 : BitVec 32 := 2#32
  let v7657 : BitVec 32 := Scalar.muli arg1 c2_i32_4820
  let c1_i32_4821 : BitVec 32 := 1#32
  let v7658 : BitVec 32 := Scalar.addi v7657 c1_i32_4821
  let c256_i32_4822 : BitVec 32 := 256#32
  let v7659 : BitVec 32 := Scalar.muli v7658 c256_i32_4822
  let c245_i32_4823 : BitVec 32 := 245#32
  let v7660 : BitVec 32 := Scalar.addi v7659 c245_i32_4823
  let c8_i32_4827 : BitVec 32 := 8#32
  let v7665 : BitVec 32 := Scalar.muli v7660 c8_i32_4827
  let v7666 : BitVec 32 := v7665
  let c0_i32_4828 : BitVec 32 := 0#32
  ![v7661.toNat, v7666.toNat, 0]
def k0_off2029 (v7663 : BitVec 32) : Fin 2 → Nat :=
  let v7664 : BitVec 32 := v7663
  let c0_i32_4829 : BitVec 32 := 0#32
  ![v7664.toNat, 0]

def k0_chk503 (i : grid0.Coords) (v7663 : BitVec 32) : Prop :=
  (∀ (k0_h2 : k0_cond2 i = 1#1), 8 ∣ (k0_mult1005 v7663).toNat) ∧
  (∀ (k0_h2 : k0_cond2 i = 1#1), ∀ a, (k0_off2029 v7663) a + S8x128.size a ≤ S131072x128.size a)
theorem k0_mult1005_dvd : ∀ (i : grid0.Coords) (v7663 : BitVec 32) (k0_hw503 : k0_chk503 i v7663), ∀ (k0_h2 : k0_cond2 i = 1#1), 8 ∣ (k0_mult1005 v7663).toNat := fun i v7663 k0_hw503 k0_h2 => k0_hw503.1 k0_h2
theorem k0_off2029_inb : ∀ (i : grid0.Coords) (v7663 : BitVec 32) (k0_hw503 : k0_chk503 i v7663), ∀ (k0_h2 : k0_cond2 i = 1#1), ∀ a, (k0_off2029 v7663) a + S8x128.size a ≤ S131072x128.size a := fun i v7663 k0_hw503 k0_h2 => k0_hw503.2 k0_h2

def k0_off2030 (i : grid0.Coords) : Fin 3 → Nat :=
  let c0_4835 : Index := 0#32
  let c0_4836 : Index := 0#32
  let arg1 : BitVec 32 := BitVec.ofNat 32 (i 1).val
  let c2_i32_4830 : BitVec 32 := 2#32
  let v7672 : BitVec 32 := Scalar.muli arg1 c2_i32_4830
  let c1_i32_4831 : BitVec 32 := 1#32
  let v7673 : BitVec 32 := Scalar.addi v7672 c1_i32_4831
  let c256_i32_4832 : BitVec 32 := 256#32
  let v7674 : BitVec 32 := Scalar.muli v7673 c256_i32_4832
  let c246_i32_4833 : BitVec 32 := 246#32
  let v7675 : BitVec 32 := Scalar.addi v7674 c246_i32_4833
  let v7677 : Index := Scalar.indexCast v7675
  ![0, 0, v7677.toNat]
def k0_mult1007 (v7678 : BitVec 32) : BitVec 32 :=
  v7678

def k0_mult1008 (i : grid0.Coords) : BitVec 32 :=
  let arg1 : BitVec 32 := BitVec.ofNat 32 (i 1).val
  let c2_i32_4830 : BitVec 32 := 2#32
  let v7672 : BitVec 32 := Scalar.muli arg1 c2_i32_4830
  let c1_i32_4831 : BitVec 32 := 1#32
  let v7673 : BitVec 32 := Scalar.addi v7672 c1_i32_4831
  let c256_i32_4832 : BitVec 32 := 256#32
  let v7674 : BitVec 32 := Scalar.muli v7673 c256_i32_4832
  let c246_i32_4833 : BitVec 32 := 246#32
  let v7675 : BitVec 32 := Scalar.addi v7674 c246_i32_4833
  let c8_i32_4837 : BitVec 32 := 8#32
  let v7680 : BitVec 32 := Scalar.muli v7675 c8_i32_4837
  v7680
def k0_off2031 (i : grid0.Coords) : Fin 1 → Nat :=
  let c1_i32_4834 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7676 : BitVec 32 := Scalar.subi c1_i32_4834 v9
  ![v7676.toNat]
def k0_off2032 (i : grid0.Coords) : Fin 3 → Nat :=
  let c1_i32_4834 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7676 : BitVec 32 := Scalar.subi c1_i32_4834 v9
  let arg1 : BitVec 32 := BitVec.ofNat 32 (i 1).val
  let c2_i32_4830 : BitVec 32 := 2#32
  let v7672 : BitVec 32 := Scalar.muli arg1 c2_i32_4830
  let c1_i32_4831 : BitVec 32 := 1#32
  let v7673 : BitVec 32 := Scalar.addi v7672 c1_i32_4831
  let c256_i32_4832 : BitVec 32 := 256#32
  let v7674 : BitVec 32 := Scalar.muli v7673 c256_i32_4832
  let c246_i32_4833 : BitVec 32 := 246#32
  let v7675 : BitVec 32 := Scalar.addi v7674 c246_i32_4833
  let c8_i32_4837 : BitVec 32 := 8#32
  let v7680 : BitVec 32 := Scalar.muli v7675 c8_i32_4837
  let v7681 : BitVec 32 := v7680
  let c0_i32_4838 : BitVec 32 := 0#32
  ![v7676.toNat, v7681.toNat, 0]
def k0_off2033 (v7678 : BitVec 32) : Fin 2 → Nat :=
  let v7679 : BitVec 32 := v7678
  let c0_i32_4839 : BitVec 32 := 0#32
  ![v7679.toNat, 0]

def k0_chk504 (i : grid0.Coords) (v7678 : BitVec 32) : Prop :=
  (∀ (k0_h2 : k0_cond2 i = 1#1), 8 ∣ (k0_mult1007 v7678).toNat) ∧
  (∀ (k0_h2 : k0_cond2 i = 1#1), ∀ a, (k0_off2033 v7678) a + S8x128.size a ≤ S131072x128.size a)
theorem k0_mult1007_dvd : ∀ (i : grid0.Coords) (v7678 : BitVec 32) (k0_hw504 : k0_chk504 i v7678), ∀ (k0_h2 : k0_cond2 i = 1#1), 8 ∣ (k0_mult1007 v7678).toNat := fun i v7678 k0_hw504 k0_h2 => k0_hw504.1 k0_h2
theorem k0_off2033_inb : ∀ (i : grid0.Coords) (v7678 : BitVec 32) (k0_hw504 : k0_chk504 i v7678), ∀ (k0_h2 : k0_cond2 i = 1#1), ∀ a, (k0_off2033 v7678) a + S8x128.size a ≤ S131072x128.size a := fun i v7678 k0_hw504 k0_h2 => k0_hw504.2 k0_h2

def k0_off2034 (i : grid0.Coords) : Fin 3 → Nat :=
  let c0_4845 : Index := 0#32
  let c0_4846 : Index := 0#32
  let arg1 : BitVec 32 := BitVec.ofNat 32 (i 1).val
  let c2_i32_4840 : BitVec 32 := 2#32
  let v7687 : BitVec 32 := Scalar.muli arg1 c2_i32_4840
  let c1_i32_4841 : BitVec 32 := 1#32
  let v7688 : BitVec 32 := Scalar.addi v7687 c1_i32_4841
  let c256_i32_4842 : BitVec 32 := 256#32
  let v7689 : BitVec 32 := Scalar.muli v7688 c256_i32_4842
  let c247_i32_4843 : BitVec 32 := 247#32
  let v7690 : BitVec 32 := Scalar.addi v7689 c247_i32_4843
  let v7692 : Index := Scalar.indexCast v7690
  ![0, 0, v7692.toNat]
def k0_mult1009 (v7693 : BitVec 32) : BitVec 32 :=
  v7693

def k0_mult1010 (i : grid0.Coords) : BitVec 32 :=
  let arg1 : BitVec 32 := BitVec.ofNat 32 (i 1).val
  let c2_i32_4840 : BitVec 32 := 2#32
  let v7687 : BitVec 32 := Scalar.muli arg1 c2_i32_4840
  let c1_i32_4841 : BitVec 32 := 1#32
  let v7688 : BitVec 32 := Scalar.addi v7687 c1_i32_4841
  let c256_i32_4842 : BitVec 32 := 256#32
  let v7689 : BitVec 32 := Scalar.muli v7688 c256_i32_4842
  let c247_i32_4843 : BitVec 32 := 247#32
  let v7690 : BitVec 32 := Scalar.addi v7689 c247_i32_4843
  let c8_i32_4847 : BitVec 32 := 8#32
  let v7695 : BitVec 32 := Scalar.muli v7690 c8_i32_4847
  v7695
def k0_off2035 (i : grid0.Coords) : Fin 1 → Nat :=
  let c1_i32_4844 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7691 : BitVec 32 := Scalar.subi c1_i32_4844 v9
  ![v7691.toNat]
def k0_off2036 (i : grid0.Coords) : Fin 3 → Nat :=
  let c1_i32_4844 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7691 : BitVec 32 := Scalar.subi c1_i32_4844 v9
  let arg1 : BitVec 32 := BitVec.ofNat 32 (i 1).val
  let c2_i32_4840 : BitVec 32 := 2#32
  let v7687 : BitVec 32 := Scalar.muli arg1 c2_i32_4840
  let c1_i32_4841 : BitVec 32 := 1#32
  let v7688 : BitVec 32 := Scalar.addi v7687 c1_i32_4841
  let c256_i32_4842 : BitVec 32 := 256#32
  let v7689 : BitVec 32 := Scalar.muli v7688 c256_i32_4842
  let c247_i32_4843 : BitVec 32 := 247#32
  let v7690 : BitVec 32 := Scalar.addi v7689 c247_i32_4843
  let c8_i32_4847 : BitVec 32 := 8#32
  let v7695 : BitVec 32 := Scalar.muli v7690 c8_i32_4847
  let v7696 : BitVec 32 := v7695
  let c0_i32_4848 : BitVec 32 := 0#32
  ![v7691.toNat, v7696.toNat, 0]
def k0_off2037 (v7693 : BitVec 32) : Fin 2 → Nat :=
  let v7694 : BitVec 32 := v7693
  let c0_i32_4849 : BitVec 32 := 0#32
  ![v7694.toNat, 0]

def k0_chk505 (i : grid0.Coords) (v7693 : BitVec 32) : Prop :=
  (∀ (k0_h2 : k0_cond2 i = 1#1), 8 ∣ (k0_mult1009 v7693).toNat) ∧
  (∀ (k0_h2 : k0_cond2 i = 1#1), ∀ a, (k0_off2037 v7693) a + S8x128.size a ≤ S131072x128.size a)
theorem k0_mult1009_dvd : ∀ (i : grid0.Coords) (v7693 : BitVec 32) (k0_hw505 : k0_chk505 i v7693), ∀ (k0_h2 : k0_cond2 i = 1#1), 8 ∣ (k0_mult1009 v7693).toNat := fun i v7693 k0_hw505 k0_h2 => k0_hw505.1 k0_h2
theorem k0_off2037_inb : ∀ (i : grid0.Coords) (v7693 : BitVec 32) (k0_hw505 : k0_chk505 i v7693), ∀ (k0_h2 : k0_cond2 i = 1#1), ∀ a, (k0_off2037 v7693) a + S8x128.size a ≤ S131072x128.size a := fun i v7693 k0_hw505 k0_h2 => k0_hw505.2 k0_h2

def k0_off2038 (i : grid0.Coords) : Fin 3 → Nat :=
  let c0_4855 : Index := 0#32
  let c0_4856 : Index := 0#32
  let arg1 : BitVec 32 := BitVec.ofNat 32 (i 1).val
  let c2_i32_4850 : BitVec 32 := 2#32
  let v7702 : BitVec 32 := Scalar.muli arg1 c2_i32_4850
  let c1_i32_4851 : BitVec 32 := 1#32
  let v7703 : BitVec 32 := Scalar.addi v7702 c1_i32_4851
  let c256_i32_4852 : BitVec 32 := 256#32
  let v7704 : BitVec 32 := Scalar.muli v7703 c256_i32_4852
  let c248_i32_4853 : BitVec 32 := 248#32
  let v7705 : BitVec 32 := Scalar.addi v7704 c248_i32_4853
  let v7707 : Index := Scalar.indexCast v7705
  ![0, 0, v7707.toNat]
def k0_mult1011 (v7708 : BitVec 32) : BitVec 32 :=
  v7708

def k0_mult1012 (i : grid0.Coords) : BitVec 32 :=
  let arg1 : BitVec 32 := BitVec.ofNat 32 (i 1).val
  let c2_i32_4850 : BitVec 32 := 2#32
  let v7702 : BitVec 32 := Scalar.muli arg1 c2_i32_4850
  let c1_i32_4851 : BitVec 32 := 1#32
  let v7703 : BitVec 32 := Scalar.addi v7702 c1_i32_4851
  let c256_i32_4852 : BitVec 32 := 256#32
  let v7704 : BitVec 32 := Scalar.muli v7703 c256_i32_4852
  let c248_i32_4853 : BitVec 32 := 248#32
  let v7705 : BitVec 32 := Scalar.addi v7704 c248_i32_4853
  let c8_i32_4857 : BitVec 32 := 8#32
  let v7710 : BitVec 32 := Scalar.muli v7705 c8_i32_4857
  v7710
def k0_off2039 (i : grid0.Coords) : Fin 1 → Nat :=
  let c1_i32_4854 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7706 : BitVec 32 := Scalar.subi c1_i32_4854 v9
  ![v7706.toNat]
def k0_off2040 (i : grid0.Coords) : Fin 3 → Nat :=
  let c1_i32_4854 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7706 : BitVec 32 := Scalar.subi c1_i32_4854 v9
  let arg1 : BitVec 32 := BitVec.ofNat 32 (i 1).val
  let c2_i32_4850 : BitVec 32 := 2#32
  let v7702 : BitVec 32 := Scalar.muli arg1 c2_i32_4850
  let c1_i32_4851 : BitVec 32 := 1#32
  let v7703 : BitVec 32 := Scalar.addi v7702 c1_i32_4851
  let c256_i32_4852 : BitVec 32 := 256#32
  let v7704 : BitVec 32 := Scalar.muli v7703 c256_i32_4852
  let c248_i32_4853 : BitVec 32 := 248#32
  let v7705 : BitVec 32 := Scalar.addi v7704 c248_i32_4853
  let c8_i32_4857 : BitVec 32 := 8#32
  let v7710 : BitVec 32 := Scalar.muli v7705 c8_i32_4857
  let v7711 : BitVec 32 := v7710
  let c0_i32_4858 : BitVec 32 := 0#32
  ![v7706.toNat, v7711.toNat, 0]
def k0_off2041 (v7708 : BitVec 32) : Fin 2 → Nat :=
  let v7709 : BitVec 32 := v7708
  let c0_i32_4859 : BitVec 32 := 0#32
  ![v7709.toNat, 0]

def k0_chk506 (i : grid0.Coords) (v7708 : BitVec 32) : Prop :=
  (∀ (k0_h2 : k0_cond2 i = 1#1), 8 ∣ (k0_mult1011 v7708).toNat) ∧
  (∀ (k0_h2 : k0_cond2 i = 1#1), ∀ a, (k0_off2041 v7708) a + S8x128.size a ≤ S131072x128.size a)
theorem k0_mult1011_dvd : ∀ (i : grid0.Coords) (v7708 : BitVec 32) (k0_hw506 : k0_chk506 i v7708), ∀ (k0_h2 : k0_cond2 i = 1#1), 8 ∣ (k0_mult1011 v7708).toNat := fun i v7708 k0_hw506 k0_h2 => k0_hw506.1 k0_h2
theorem k0_off2041_inb : ∀ (i : grid0.Coords) (v7708 : BitVec 32) (k0_hw506 : k0_chk506 i v7708), ∀ (k0_h2 : k0_cond2 i = 1#1), ∀ a, (k0_off2041 v7708) a + S8x128.size a ≤ S131072x128.size a := fun i v7708 k0_hw506 k0_h2 => k0_hw506.2 k0_h2

def k0_off2042 (i : grid0.Coords) : Fin 3 → Nat :=
  let c0_4865 : Index := 0#32
  let c0_4866 : Index := 0#32
  let arg1 : BitVec 32 := BitVec.ofNat 32 (i 1).val
  let c2_i32_4860 : BitVec 32 := 2#32
  let v7717 : BitVec 32 := Scalar.muli arg1 c2_i32_4860
  let c1_i32_4861 : BitVec 32 := 1#32
  let v7718 : BitVec 32 := Scalar.addi v7717 c1_i32_4861
  let c256_i32_4862 : BitVec 32 := 256#32
  let v7719 : BitVec 32 := Scalar.muli v7718 c256_i32_4862
  let c249_i32_4863 : BitVec 32 := 249#32
  let v7720 : BitVec 32 := Scalar.addi v7719 c249_i32_4863
  let v7722 : Index := Scalar.indexCast v7720
  ![0, 0, v7722.toNat]
def k0_mult1013 (v7723 : BitVec 32) : BitVec 32 :=
  v7723

def k0_mult1014 (i : grid0.Coords) : BitVec 32 :=
  let arg1 : BitVec 32 := BitVec.ofNat 32 (i 1).val
  let c2_i32_4860 : BitVec 32 := 2#32
  let v7717 : BitVec 32 := Scalar.muli arg1 c2_i32_4860
  let c1_i32_4861 : BitVec 32 := 1#32
  let v7718 : BitVec 32 := Scalar.addi v7717 c1_i32_4861
  let c256_i32_4862 : BitVec 32 := 256#32
  let v7719 : BitVec 32 := Scalar.muli v7718 c256_i32_4862
  let c249_i32_4863 : BitVec 32 := 249#32
  let v7720 : BitVec 32 := Scalar.addi v7719 c249_i32_4863
  let c8_i32_4867 : BitVec 32 := 8#32
  let v7725 : BitVec 32 := Scalar.muli v7720 c8_i32_4867
  v7725
def k0_off2043 (i : grid0.Coords) : Fin 1 → Nat :=
  let c1_i32_4864 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7721 : BitVec 32 := Scalar.subi c1_i32_4864 v9
  ![v7721.toNat]
def k0_off2044 (i : grid0.Coords) : Fin 3 → Nat :=
  let c1_i32_4864 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7721 : BitVec 32 := Scalar.subi c1_i32_4864 v9
  let arg1 : BitVec 32 := BitVec.ofNat 32 (i 1).val
  let c2_i32_4860 : BitVec 32 := 2#32
  let v7717 : BitVec 32 := Scalar.muli arg1 c2_i32_4860
  let c1_i32_4861 : BitVec 32 := 1#32
  let v7718 : BitVec 32 := Scalar.addi v7717 c1_i32_4861
  let c256_i32_4862 : BitVec 32 := 256#32
  let v7719 : BitVec 32 := Scalar.muli v7718 c256_i32_4862
  let c249_i32_4863 : BitVec 32 := 249#32
  let v7720 : BitVec 32 := Scalar.addi v7719 c249_i32_4863
  let c8_i32_4867 : BitVec 32 := 8#32
  let v7725 : BitVec 32 := Scalar.muli v7720 c8_i32_4867
  let v7726 : BitVec 32 := v7725
  let c0_i32_4868 : BitVec 32 := 0#32
  ![v7721.toNat, v7726.toNat, 0]
def k0_off2045 (v7723 : BitVec 32) : Fin 2 → Nat :=
  let v7724 : BitVec 32 := v7723
  let c0_i32_4869 : BitVec 32 := 0#32
  ![v7724.toNat, 0]

def k0_chk507 (i : grid0.Coords) (v7723 : BitVec 32) : Prop :=
  (∀ (k0_h2 : k0_cond2 i = 1#1), 8 ∣ (k0_mult1013 v7723).toNat) ∧
  (∀ (k0_h2 : k0_cond2 i = 1#1), ∀ a, (k0_off2045 v7723) a + S8x128.size a ≤ S131072x128.size a)
theorem k0_mult1013_dvd : ∀ (i : grid0.Coords) (v7723 : BitVec 32) (k0_hw507 : k0_chk507 i v7723), ∀ (k0_h2 : k0_cond2 i = 1#1), 8 ∣ (k0_mult1013 v7723).toNat := fun i v7723 k0_hw507 k0_h2 => k0_hw507.1 k0_h2
theorem k0_off2045_inb : ∀ (i : grid0.Coords) (v7723 : BitVec 32) (k0_hw507 : k0_chk507 i v7723), ∀ (k0_h2 : k0_cond2 i = 1#1), ∀ a, (k0_off2045 v7723) a + S8x128.size a ≤ S131072x128.size a := fun i v7723 k0_hw507 k0_h2 => k0_hw507.2 k0_h2

def k0_off2046 (i : grid0.Coords) : Fin 3 → Nat :=
  let c0_4875 : Index := 0#32
  let c0_4876 : Index := 0#32
  let arg1 : BitVec 32 := BitVec.ofNat 32 (i 1).val
  let c2_i32_4870 : BitVec 32 := 2#32
  let v7732 : BitVec 32 := Scalar.muli arg1 c2_i32_4870
  let c1_i32_4871 : BitVec 32 := 1#32
  let v7733 : BitVec 32 := Scalar.addi v7732 c1_i32_4871
  let c256_i32_4872 : BitVec 32 := 256#32
  let v7734 : BitVec 32 := Scalar.muli v7733 c256_i32_4872
  let c250_i32_4873 : BitVec 32 := 250#32
  let v7735 : BitVec 32 := Scalar.addi v7734 c250_i32_4873
  let v7737 : Index := Scalar.indexCast v7735
  ![0, 0, v7737.toNat]
def k0_mult1015 (v7738 : BitVec 32) : BitVec 32 :=
  v7738

def k0_mult1016 (i : grid0.Coords) : BitVec 32 :=
  let arg1 : BitVec 32 := BitVec.ofNat 32 (i 1).val
  let c2_i32_4870 : BitVec 32 := 2#32
  let v7732 : BitVec 32 := Scalar.muli arg1 c2_i32_4870
  let c1_i32_4871 : BitVec 32 := 1#32
  let v7733 : BitVec 32 := Scalar.addi v7732 c1_i32_4871
  let c256_i32_4872 : BitVec 32 := 256#32
  let v7734 : BitVec 32 := Scalar.muli v7733 c256_i32_4872
  let c250_i32_4873 : BitVec 32 := 250#32
  let v7735 : BitVec 32 := Scalar.addi v7734 c250_i32_4873
  let c8_i32_4877 : BitVec 32 := 8#32
  let v7740 : BitVec 32 := Scalar.muli v7735 c8_i32_4877
  v7740
def k0_off2047 (i : grid0.Coords) : Fin 1 → Nat :=
  let c1_i32_4874 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7736 : BitVec 32 := Scalar.subi c1_i32_4874 v9
  ![v7736.toNat]
def k0_off2048 (i : grid0.Coords) : Fin 3 → Nat :=
  let c1_i32_4874 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7736 : BitVec 32 := Scalar.subi c1_i32_4874 v9
  let arg1 : BitVec 32 := BitVec.ofNat 32 (i 1).val
  let c2_i32_4870 : BitVec 32 := 2#32
  let v7732 : BitVec 32 := Scalar.muli arg1 c2_i32_4870
  let c1_i32_4871 : BitVec 32 := 1#32
  let v7733 : BitVec 32 := Scalar.addi v7732 c1_i32_4871
  let c256_i32_4872 : BitVec 32 := 256#32
  let v7734 : BitVec 32 := Scalar.muli v7733 c256_i32_4872
  let c250_i32_4873 : BitVec 32 := 250#32
  let v7735 : BitVec 32 := Scalar.addi v7734 c250_i32_4873
  let c8_i32_4877 : BitVec 32 := 8#32
  let v7740 : BitVec 32 := Scalar.muli v7735 c8_i32_4877
  let v7741 : BitVec 32 := v7740
  let c0_i32_4878 : BitVec 32 := 0#32
  ![v7736.toNat, v7741.toNat, 0]
def k0_off2049 (v7738 : BitVec 32) : Fin 2 → Nat :=
  let v7739 : BitVec 32 := v7738
  let c0_i32_4879 : BitVec 32 := 0#32
  ![v7739.toNat, 0]

def k0_chk508 (i : grid0.Coords) (v7738 : BitVec 32) : Prop :=
  (∀ (k0_h2 : k0_cond2 i = 1#1), 8 ∣ (k0_mult1015 v7738).toNat) ∧
  (∀ (k0_h2 : k0_cond2 i = 1#1), ∀ a, (k0_off2049 v7738) a + S8x128.size a ≤ S131072x128.size a)
theorem k0_mult1015_dvd : ∀ (i : grid0.Coords) (v7738 : BitVec 32) (k0_hw508 : k0_chk508 i v7738), ∀ (k0_h2 : k0_cond2 i = 1#1), 8 ∣ (k0_mult1015 v7738).toNat := fun i v7738 k0_hw508 k0_h2 => k0_hw508.1 k0_h2
theorem k0_off2049_inb : ∀ (i : grid0.Coords) (v7738 : BitVec 32) (k0_hw508 : k0_chk508 i v7738), ∀ (k0_h2 : k0_cond2 i = 1#1), ∀ a, (k0_off2049 v7738) a + S8x128.size a ≤ S131072x128.size a := fun i v7738 k0_hw508 k0_h2 => k0_hw508.2 k0_h2

def k0_off2050 (i : grid0.Coords) : Fin 3 → Nat :=
  let c0_4885 : Index := 0#32
  let c0_4886 : Index := 0#32
  let arg1 : BitVec 32 := BitVec.ofNat 32 (i 1).val
  let c2_i32_4880 : BitVec 32 := 2#32
  let v7747 : BitVec 32 := Scalar.muli arg1 c2_i32_4880
  let c1_i32_4881 : BitVec 32 := 1#32
  let v7748 : BitVec 32 := Scalar.addi v7747 c1_i32_4881
  let c256_i32_4882 : BitVec 32 := 256#32
  let v7749 : BitVec 32 := Scalar.muli v7748 c256_i32_4882
  let c251_i32_4883 : BitVec 32 := 251#32
  let v7750 : BitVec 32 := Scalar.addi v7749 c251_i32_4883
  let v7752 : Index := Scalar.indexCast v7750
  ![0, 0, v7752.toNat]
def k0_mult1017 (v7753 : BitVec 32) : BitVec 32 :=
  v7753

def k0_mult1018 (i : grid0.Coords) : BitVec 32 :=
  let arg1 : BitVec 32 := BitVec.ofNat 32 (i 1).val
  let c2_i32_4880 : BitVec 32 := 2#32
  let v7747 : BitVec 32 := Scalar.muli arg1 c2_i32_4880
  let c1_i32_4881 : BitVec 32 := 1#32
  let v7748 : BitVec 32 := Scalar.addi v7747 c1_i32_4881
  let c256_i32_4882 : BitVec 32 := 256#32
  let v7749 : BitVec 32 := Scalar.muli v7748 c256_i32_4882
  let c251_i32_4883 : BitVec 32 := 251#32
  let v7750 : BitVec 32 := Scalar.addi v7749 c251_i32_4883
  let c8_i32_4887 : BitVec 32 := 8#32
  let v7755 : BitVec 32 := Scalar.muli v7750 c8_i32_4887
  v7755
def k0_off2051 (i : grid0.Coords) : Fin 1 → Nat :=
  let c1_i32_4884 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7751 : BitVec 32 := Scalar.subi c1_i32_4884 v9
  ![v7751.toNat]
def k0_off2052 (i : grid0.Coords) : Fin 3 → Nat :=
  let c1_i32_4884 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7751 : BitVec 32 := Scalar.subi c1_i32_4884 v9
  let arg1 : BitVec 32 := BitVec.ofNat 32 (i 1).val
  let c2_i32_4880 : BitVec 32 := 2#32
  let v7747 : BitVec 32 := Scalar.muli arg1 c2_i32_4880
  let c1_i32_4881 : BitVec 32 := 1#32
  let v7748 : BitVec 32 := Scalar.addi v7747 c1_i32_4881
  let c256_i32_4882 : BitVec 32 := 256#32
  let v7749 : BitVec 32 := Scalar.muli v7748 c256_i32_4882
  let c251_i32_4883 : BitVec 32 := 251#32
  let v7750 : BitVec 32 := Scalar.addi v7749 c251_i32_4883
  let c8_i32_4887 : BitVec 32 := 8#32
  let v7755 : BitVec 32 := Scalar.muli v7750 c8_i32_4887
  let v7756 : BitVec 32 := v7755
  let c0_i32_4888 : BitVec 32 := 0#32
  ![v7751.toNat, v7756.toNat, 0]
def k0_off2053 (v7753 : BitVec 32) : Fin 2 → Nat :=
  let v7754 : BitVec 32 := v7753
  let c0_i32_4889 : BitVec 32 := 0#32
  ![v7754.toNat, 0]

def k0_chk509 (i : grid0.Coords) (v7753 : BitVec 32) : Prop :=
  (∀ (k0_h2 : k0_cond2 i = 1#1), 8 ∣ (k0_mult1017 v7753).toNat) ∧
  (∀ (k0_h2 : k0_cond2 i = 1#1), ∀ a, (k0_off2053 v7753) a + S8x128.size a ≤ S131072x128.size a)
theorem k0_mult1017_dvd : ∀ (i : grid0.Coords) (v7753 : BitVec 32) (k0_hw509 : k0_chk509 i v7753), ∀ (k0_h2 : k0_cond2 i = 1#1), 8 ∣ (k0_mult1017 v7753).toNat := fun i v7753 k0_hw509 k0_h2 => k0_hw509.1 k0_h2
theorem k0_off2053_inb : ∀ (i : grid0.Coords) (v7753 : BitVec 32) (k0_hw509 : k0_chk509 i v7753), ∀ (k0_h2 : k0_cond2 i = 1#1), ∀ a, (k0_off2053 v7753) a + S8x128.size a ≤ S131072x128.size a := fun i v7753 k0_hw509 k0_h2 => k0_hw509.2 k0_h2

def k0_off2054 (i : grid0.Coords) : Fin 3 → Nat :=
  let c0_4895 : Index := 0#32
  let c0_4896 : Index := 0#32
  let arg1 : BitVec 32 := BitVec.ofNat 32 (i 1).val
  let c2_i32_4890 : BitVec 32 := 2#32
  let v7762 : BitVec 32 := Scalar.muli arg1 c2_i32_4890
  let c1_i32_4891 : BitVec 32 := 1#32
  let v7763 : BitVec 32 := Scalar.addi v7762 c1_i32_4891
  let c256_i32_4892 : BitVec 32 := 256#32
  let v7764 : BitVec 32 := Scalar.muli v7763 c256_i32_4892
  let c252_i32_4893 : BitVec 32 := 252#32
  let v7765 : BitVec 32 := Scalar.addi v7764 c252_i32_4893
  let v7767 : Index := Scalar.indexCast v7765
  ![0, 0, v7767.toNat]
def k0_mult1019 (v7768 : BitVec 32) : BitVec 32 :=
  v7768

def k0_mult1020 (i : grid0.Coords) : BitVec 32 :=
  let arg1 : BitVec 32 := BitVec.ofNat 32 (i 1).val
  let c2_i32_4890 : BitVec 32 := 2#32
  let v7762 : BitVec 32 := Scalar.muli arg1 c2_i32_4890
  let c1_i32_4891 : BitVec 32 := 1#32
  let v7763 : BitVec 32 := Scalar.addi v7762 c1_i32_4891
  let c256_i32_4892 : BitVec 32 := 256#32
  let v7764 : BitVec 32 := Scalar.muli v7763 c256_i32_4892
  let c252_i32_4893 : BitVec 32 := 252#32
  let v7765 : BitVec 32 := Scalar.addi v7764 c252_i32_4893
  let c8_i32_4897 : BitVec 32 := 8#32
  let v7770 : BitVec 32 := Scalar.muli v7765 c8_i32_4897
  v7770
def k0_off2055 (i : grid0.Coords) : Fin 1 → Nat :=
  let c1_i32_4894 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7766 : BitVec 32 := Scalar.subi c1_i32_4894 v9
  ![v7766.toNat]
def k0_off2056 (i : grid0.Coords) : Fin 3 → Nat :=
  let c1_i32_4894 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7766 : BitVec 32 := Scalar.subi c1_i32_4894 v9
  let arg1 : BitVec 32 := BitVec.ofNat 32 (i 1).val
  let c2_i32_4890 : BitVec 32 := 2#32
  let v7762 : BitVec 32 := Scalar.muli arg1 c2_i32_4890
  let c1_i32_4891 : BitVec 32 := 1#32
  let v7763 : BitVec 32 := Scalar.addi v7762 c1_i32_4891
  let c256_i32_4892 : BitVec 32 := 256#32
  let v7764 : BitVec 32 := Scalar.muli v7763 c256_i32_4892
  let c252_i32_4893 : BitVec 32 := 252#32
  let v7765 : BitVec 32 := Scalar.addi v7764 c252_i32_4893
  let c8_i32_4897 : BitVec 32 := 8#32
  let v7770 : BitVec 32 := Scalar.muli v7765 c8_i32_4897
  let v7771 : BitVec 32 := v7770
  let c0_i32_4898 : BitVec 32 := 0#32
  ![v7766.toNat, v7771.toNat, 0]
def k0_off2057 (v7768 : BitVec 32) : Fin 2 → Nat :=
  let v7769 : BitVec 32 := v7768
  let c0_i32_4899 : BitVec 32 := 0#32
  ![v7769.toNat, 0]

def k0_chk510 (i : grid0.Coords) (v7768 : BitVec 32) : Prop :=
  (∀ (k0_h2 : k0_cond2 i = 1#1), 8 ∣ (k0_mult1019 v7768).toNat) ∧
  (∀ (k0_h2 : k0_cond2 i = 1#1), ∀ a, (k0_off2057 v7768) a + S8x128.size a ≤ S131072x128.size a)
theorem k0_mult1019_dvd : ∀ (i : grid0.Coords) (v7768 : BitVec 32) (k0_hw510 : k0_chk510 i v7768), ∀ (k0_h2 : k0_cond2 i = 1#1), 8 ∣ (k0_mult1019 v7768).toNat := fun i v7768 k0_hw510 k0_h2 => k0_hw510.1 k0_h2
theorem k0_off2057_inb : ∀ (i : grid0.Coords) (v7768 : BitVec 32) (k0_hw510 : k0_chk510 i v7768), ∀ (k0_h2 : k0_cond2 i = 1#1), ∀ a, (k0_off2057 v7768) a + S8x128.size a ≤ S131072x128.size a := fun i v7768 k0_hw510 k0_h2 => k0_hw510.2 k0_h2

def k0_off2058 (i : grid0.Coords) : Fin 3 → Nat :=
  let c0_4905 : Index := 0#32
  let c0_4906 : Index := 0#32
  let arg1 : BitVec 32 := BitVec.ofNat 32 (i 1).val
  let c2_i32_4900 : BitVec 32 := 2#32
  let v7777 : BitVec 32 := Scalar.muli arg1 c2_i32_4900
  let c1_i32_4901 : BitVec 32 := 1#32
  let v7778 : BitVec 32 := Scalar.addi v7777 c1_i32_4901
  let c256_i32_4902 : BitVec 32 := 256#32
  let v7779 : BitVec 32 := Scalar.muli v7778 c256_i32_4902
  let c253_i32_4903 : BitVec 32 := 253#32
  let v7780 : BitVec 32 := Scalar.addi v7779 c253_i32_4903
  let v7782 : Index := Scalar.indexCast v7780
  ![0, 0, v7782.toNat]
def k0_mult1021 (v7783 : BitVec 32) : BitVec 32 :=
  v7783

def k0_mult1022 (i : grid0.Coords) : BitVec 32 :=
  let arg1 : BitVec 32 := BitVec.ofNat 32 (i 1).val
  let c2_i32_4900 : BitVec 32 := 2#32
  let v7777 : BitVec 32 := Scalar.muli arg1 c2_i32_4900
  let c1_i32_4901 : BitVec 32 := 1#32
  let v7778 : BitVec 32 := Scalar.addi v7777 c1_i32_4901
  let c256_i32_4902 : BitVec 32 := 256#32
  let v7779 : BitVec 32 := Scalar.muli v7778 c256_i32_4902
  let c253_i32_4903 : BitVec 32 := 253#32
  let v7780 : BitVec 32 := Scalar.addi v7779 c253_i32_4903
  let c8_i32_4907 : BitVec 32 := 8#32
  let v7785 : BitVec 32 := Scalar.muli v7780 c8_i32_4907
  v7785
def k0_off2059 (i : grid0.Coords) : Fin 1 → Nat :=
  let c1_i32_4904 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7781 : BitVec 32 := Scalar.subi c1_i32_4904 v9
  ![v7781.toNat]
def k0_off2060 (i : grid0.Coords) : Fin 3 → Nat :=
  let c1_i32_4904 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7781 : BitVec 32 := Scalar.subi c1_i32_4904 v9
  let arg1 : BitVec 32 := BitVec.ofNat 32 (i 1).val
  let c2_i32_4900 : BitVec 32 := 2#32
  let v7777 : BitVec 32 := Scalar.muli arg1 c2_i32_4900
  let c1_i32_4901 : BitVec 32 := 1#32
  let v7778 : BitVec 32 := Scalar.addi v7777 c1_i32_4901
  let c256_i32_4902 : BitVec 32 := 256#32
  let v7779 : BitVec 32 := Scalar.muli v7778 c256_i32_4902
  let c253_i32_4903 : BitVec 32 := 253#32
  let v7780 : BitVec 32 := Scalar.addi v7779 c253_i32_4903
  let c8_i32_4907 : BitVec 32 := 8#32
  let v7785 : BitVec 32 := Scalar.muli v7780 c8_i32_4907
  let v7786 : BitVec 32 := v7785
  let c0_i32_4908 : BitVec 32 := 0#32
  ![v7781.toNat, v7786.toNat, 0]
def k0_off2061 (v7783 : BitVec 32) : Fin 2 → Nat :=
  let v7784 : BitVec 32 := v7783
  let c0_i32_4909 : BitVec 32 := 0#32
  ![v7784.toNat, 0]

def k0_chk511 (i : grid0.Coords) (v7783 : BitVec 32) : Prop :=
  (∀ (k0_h2 : k0_cond2 i = 1#1), 8 ∣ (k0_mult1021 v7783).toNat) ∧
  (∀ (k0_h2 : k0_cond2 i = 1#1), ∀ a, (k0_off2061 v7783) a + S8x128.size a ≤ S131072x128.size a)
theorem k0_mult1021_dvd : ∀ (i : grid0.Coords) (v7783 : BitVec 32) (k0_hw511 : k0_chk511 i v7783), ∀ (k0_h2 : k0_cond2 i = 1#1), 8 ∣ (k0_mult1021 v7783).toNat := fun i v7783 k0_hw511 k0_h2 => k0_hw511.1 k0_h2
theorem k0_off2061_inb : ∀ (i : grid0.Coords) (v7783 : BitVec 32) (k0_hw511 : k0_chk511 i v7783), ∀ (k0_h2 : k0_cond2 i = 1#1), ∀ a, (k0_off2061 v7783) a + S8x128.size a ≤ S131072x128.size a := fun i v7783 k0_hw511 k0_h2 => k0_hw511.2 k0_h2

def k0_off2062 (i : grid0.Coords) : Fin 3 → Nat :=
  let c0_4915 : Index := 0#32
  let c0_4916 : Index := 0#32
  let arg1 : BitVec 32 := BitVec.ofNat 32 (i 1).val
  let c2_i32_4910 : BitVec 32 := 2#32
  let v7792 : BitVec 32 := Scalar.muli arg1 c2_i32_4910
  let c1_i32_4911 : BitVec 32 := 1#32
  let v7793 : BitVec 32 := Scalar.addi v7792 c1_i32_4911
  let c256_i32_4912 : BitVec 32 := 256#32
  let v7794 : BitVec 32 := Scalar.muli v7793 c256_i32_4912
  let c254_i32_4913 : BitVec 32 := 254#32
  let v7795 : BitVec 32 := Scalar.addi v7794 c254_i32_4913
  let v7797 : Index := Scalar.indexCast v7795
  ![0, 0, v7797.toNat]
def k0_mult1023 (v7798 : BitVec 32) : BitVec 32 :=
  v7798

def k0_mult1024 (i : grid0.Coords) : BitVec 32 :=
  let arg1 : BitVec 32 := BitVec.ofNat 32 (i 1).val
  let c2_i32_4910 : BitVec 32 := 2#32
  let v7792 : BitVec 32 := Scalar.muli arg1 c2_i32_4910
  let c1_i32_4911 : BitVec 32 := 1#32
  let v7793 : BitVec 32 := Scalar.addi v7792 c1_i32_4911
  let c256_i32_4912 : BitVec 32 := 256#32
  let v7794 : BitVec 32 := Scalar.muli v7793 c256_i32_4912
  let c254_i32_4913 : BitVec 32 := 254#32
  let v7795 : BitVec 32 := Scalar.addi v7794 c254_i32_4913
  let c8_i32_4917 : BitVec 32 := 8#32
  let v7800 : BitVec 32 := Scalar.muli v7795 c8_i32_4917
  v7800
def k0_off2063 (i : grid0.Coords) : Fin 1 → Nat :=
  let c1_i32_4914 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7796 : BitVec 32 := Scalar.subi c1_i32_4914 v9
  ![v7796.toNat]
def k0_off2064 (i : grid0.Coords) : Fin 3 → Nat :=
  let c1_i32_4914 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7796 : BitVec 32 := Scalar.subi c1_i32_4914 v9
  let arg1 : BitVec 32 := BitVec.ofNat 32 (i 1).val
  let c2_i32_4910 : BitVec 32 := 2#32
  let v7792 : BitVec 32 := Scalar.muli arg1 c2_i32_4910
  let c1_i32_4911 : BitVec 32 := 1#32
  let v7793 : BitVec 32 := Scalar.addi v7792 c1_i32_4911
  let c256_i32_4912 : BitVec 32 := 256#32
  let v7794 : BitVec 32 := Scalar.muli v7793 c256_i32_4912
  let c254_i32_4913 : BitVec 32 := 254#32
  let v7795 : BitVec 32 := Scalar.addi v7794 c254_i32_4913
  let c8_i32_4917 : BitVec 32 := 8#32
  let v7800 : BitVec 32 := Scalar.muli v7795 c8_i32_4917
  let v7801 : BitVec 32 := v7800
  let c0_i32_4918 : BitVec 32 := 0#32
  ![v7796.toNat, v7801.toNat, 0]
def k0_off2065 (v7798 : BitVec 32) : Fin 2 → Nat :=
  let v7799 : BitVec 32 := v7798
  let c0_i32_4919 : BitVec 32 := 0#32
  ![v7799.toNat, 0]

def k0_chk512 (i : grid0.Coords) (v7798 : BitVec 32) : Prop :=
  (∀ (k0_h2 : k0_cond2 i = 1#1), 8 ∣ (k0_mult1023 v7798).toNat) ∧
  (∀ (k0_h2 : k0_cond2 i = 1#1), ∀ a, (k0_off2065 v7798) a + S8x128.size a ≤ S131072x128.size a)
theorem k0_mult1023_dvd : ∀ (i : grid0.Coords) (v7798 : BitVec 32) (k0_hw512 : k0_chk512 i v7798), ∀ (k0_h2 : k0_cond2 i = 1#1), 8 ∣ (k0_mult1023 v7798).toNat := fun i v7798 k0_hw512 k0_h2 => k0_hw512.1 k0_h2
theorem k0_off2065_inb : ∀ (i : grid0.Coords) (v7798 : BitVec 32) (k0_hw512 : k0_chk512 i v7798), ∀ (k0_h2 : k0_cond2 i = 1#1), ∀ a, (k0_off2065 v7798) a + S8x128.size a ≤ S131072x128.size a := fun i v7798 k0_hw512 k0_h2 => k0_hw512.2 k0_h2

def k0_off2066 (i : grid0.Coords) : Fin 3 → Nat :=
  let c0_4925 : Index := 0#32
  let c0_4926 : Index := 0#32
  let arg1 : BitVec 32 := BitVec.ofNat 32 (i 1).val
  let c2_i32_4920 : BitVec 32 := 2#32
  let v7807 : BitVec 32 := Scalar.muli arg1 c2_i32_4920
  let c1_i32_4921 : BitVec 32 := 1#32
  let v7808 : BitVec 32 := Scalar.addi v7807 c1_i32_4921
  let c256_i32_4922 : BitVec 32 := 256#32
  let v7809 : BitVec 32 := Scalar.muli v7808 c256_i32_4922
  let c255_i32_4923 : BitVec 32 := 255#32
  let v7810 : BitVec 32 := Scalar.addi v7809 c255_i32_4923
  let v7812 : Index := Scalar.indexCast v7810
  ![0, 0, v7812.toNat]
def k0_mult1025 (v7813 : BitVec 32) : BitVec 32 :=
  v7813

def k0_mult1026 (i : grid0.Coords) : BitVec 32 :=
  let arg1 : BitVec 32 := BitVec.ofNat 32 (i 1).val
  let c2_i32_4920 : BitVec 32 := 2#32
  let v7807 : BitVec 32 := Scalar.muli arg1 c2_i32_4920
  let c1_i32_4921 : BitVec 32 := 1#32
  let v7808 : BitVec 32 := Scalar.addi v7807 c1_i32_4921
  let c256_i32_4922 : BitVec 32 := 256#32
  let v7809 : BitVec 32 := Scalar.muli v7808 c256_i32_4922
  let c255_i32_4923 : BitVec 32 := 255#32
  let v7810 : BitVec 32 := Scalar.addi v7809 c255_i32_4923
  let c8_i32_4927 : BitVec 32 := 8#32
  let v7815 : BitVec 32 := Scalar.muli v7810 c8_i32_4927
  v7815
def k0_off2067 (i : grid0.Coords) : Fin 1 → Nat :=
  let c1_i32_4924 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7811 : BitVec 32 := Scalar.subi c1_i32_4924 v9
  ![v7811.toNat]
def k0_off2068 (i : grid0.Coords) : Fin 3 → Nat :=
  let c1_i32_4924 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7811 : BitVec 32 := Scalar.subi c1_i32_4924 v9
  let arg1 : BitVec 32 := BitVec.ofNat 32 (i 1).val
  let c2_i32_4920 : BitVec 32 := 2#32
  let v7807 : BitVec 32 := Scalar.muli arg1 c2_i32_4920
  let c1_i32_4921 : BitVec 32 := 1#32
  let v7808 : BitVec 32 := Scalar.addi v7807 c1_i32_4921
  let c256_i32_4922 : BitVec 32 := 256#32
  let v7809 : BitVec 32 := Scalar.muli v7808 c256_i32_4922
  let c255_i32_4923 : BitVec 32 := 255#32
  let v7810 : BitVec 32 := Scalar.addi v7809 c255_i32_4923
  let c8_i32_4927 : BitVec 32 := 8#32
  let v7815 : BitVec 32 := Scalar.muli v7810 c8_i32_4927
  let v7816 : BitVec 32 := v7815
  let c0_i32_4928 : BitVec 32 := 0#32
  ![v7811.toNat, v7816.toNat, 0]
def k0_off2069 (v7813 : BitVec 32) : Fin 2 → Nat :=
  let v7814 : BitVec 32 := v7813
  let c0_i32_4929 : BitVec 32 := 0#32
  ![v7814.toNat, 0]

def k0_chk513 (i : grid0.Coords) (v7813 : BitVec 32) : Prop :=
  (∀ (k0_h2 : k0_cond2 i = 1#1), 8 ∣ (k0_mult1025 v7813).toNat) ∧
  (∀ (k0_h2 : k0_cond2 i = 1#1), ∀ a, (k0_off2069 v7813) a + S8x128.size a ≤ S131072x128.size a)
theorem k0_mult1025_dvd : ∀ (i : grid0.Coords) (v7813 : BitVec 32) (k0_hw513 : k0_chk513 i v7813), ∀ (k0_h2 : k0_cond2 i = 1#1), 8 ∣ (k0_mult1025 v7813).toNat := fun i v7813 k0_hw513 k0_h2 => k0_hw513.1 k0_h2
theorem k0_off2069_inb : ∀ (i : grid0.Coords) (v7813 : BitVec 32) (k0_hw513 : k0_chk513 i v7813), ∀ (k0_h2 : k0_cond2 i = 1#1), ∀ a, (k0_off2069 v7813) a + S8x128.size a ≤ S131072x128.size a := fun i v7813 k0_hw513 k0_h2 => k0_hw513.2 k0_h2

def k0_cond3 (i : grid0.Coords) : BitVec 1 :=
  let arg1 : BitVec 32 := BitVec.ofNat 32 (i 1).val
  let c0_i32_8 : BitVec 32 := 0#32
  let v18 : BitVec 1 := Scalar.cmpi .sgt arg1 c0_i32_8
  let v19 : BitVec 32 := Scalar.extui v18
  let c0_i32_9 : BitVec 32 := 0#32
  let v20 : BitVec 1 := Scalar.cmpi .ne v19 c0_i32_9
  v20

def k0_off2070 (i : grid0.Coords) : Fin 3 → Nat :=
  let c0_35 : Index := 0#32
  let c0_36 : Index := 0#32
  let arg1 : BitVec 32 := BitVec.ofNat 32 (i 1).val
  let c2_i32_31 : BitVec 32 := 2#32
  let v60 : BitVec 32 := Scalar.muli arg1 c2_i32_31
  let c0_i32_32 : BitVec 32 := 0#32
  let v61 : BitVec 32 := Scalar.addi v60 c0_i32_32
  let c256_i32 : BitVec 32 := 256#32
  let v62 : BitVec 32 := Scalar.muli v61 c256_i32
  let c0_i32_33 : BitVec 32 := 0#32
  let v63 : BitVec 32 := Scalar.addi v62 c0_i32_33
  let v65 : Index := Scalar.indexCast v63
  ![0, 0, v65.toNat]
def k0_mult1027 (v66 : BitVec 32) : BitVec 32 :=
  v66

def k0_mult1028 (i : grid0.Coords) : BitVec 32 :=
  let arg1 : BitVec 32 := BitVec.ofNat 32 (i 1).val
  let c2_i32_31 : BitVec 32 := 2#32
  let v60 : BitVec 32 := Scalar.muli arg1 c2_i32_31
  let c0_i32_32 : BitVec 32 := 0#32
  let v61 : BitVec 32 := Scalar.addi v60 c0_i32_32
  let c256_i32 : BitVec 32 := 256#32
  let v62 : BitVec 32 := Scalar.muli v61 c256_i32
  let c0_i32_33 : BitVec 32 := 0#32
  let v63 : BitVec 32 := Scalar.addi v62 c0_i32_33
  let c8_i32 : BitVec 32 := 8#32
  let v68 : BitVec 32 := Scalar.muli v63 c8_i32
  v68
def k0_off2071 (i : grid0.Coords) : Fin 1 → Nat :=
  let c1_i32_34 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : BitVec 32 := Scalar.subi c1_i32_34 v9
  ![v64.toNat]
def k0_off2072 (i : grid0.Coords) : Fin 3 → Nat :=
  let c1_i32_34 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v64 : BitVec 32 := Scalar.subi c1_i32_34 v9
  let arg1 : BitVec 32 := BitVec.ofNat 32 (i 1).val
  let c2_i32_31 : BitVec 32 := 2#32
  let v60 : BitVec 32 := Scalar.muli arg1 c2_i32_31
  let c0_i32_32 : BitVec 32 := 0#32
  let v61 : BitVec 32 := Scalar.addi v60 c0_i32_32
  let c256_i32 : BitVec 32 := 256#32
  let v62 : BitVec 32 := Scalar.muli v61 c256_i32
  let c0_i32_33 : BitVec 32 := 0#32
  let v63 : BitVec 32 := Scalar.addi v62 c0_i32_33
  let c8_i32 : BitVec 32 := 8#32
  let v68 : BitVec 32 := Scalar.muli v63 c8_i32
  let v69 : BitVec 32 := v68
  let c0_i32_37 : BitVec 32 := 0#32
  ![v64.toNat, v69.toNat, 0]
def k0_off2073 (v66 : BitVec 32) : Fin 2 → Nat :=
  let v67 : BitVec 32 := v66
  let c0_i32_38 : BitVec 32 := 0#32
  ![v67.toNat, 0]

def k0_chk514 (i : grid0.Coords) (v66 : BitVec 32) : Prop :=
  (∀ (k0_h3 : k0_cond3 i = 1#1), 8 ∣ (k0_mult1027 v66).toNat) ∧
  (∀ (k0_h3 : k0_cond3 i = 1#1), ∀ a, (k0_off2073 v66) a + S8x128.size a ≤ S131072x128.size a)
theorem k0_mult1027_dvd : ∀ (i : grid0.Coords) (v66 : BitVec 32) (k0_hw514 : k0_chk514 i v66), ∀ (k0_h3 : k0_cond3 i = 1#1), 8 ∣ (k0_mult1027 v66).toNat := fun i v66 k0_hw514 k0_h3 => k0_hw514.1 k0_h3
theorem k0_off2073_inb : ∀ (i : grid0.Coords) (v66 : BitVec 32) (k0_hw514 : k0_chk514 i v66), ∀ (k0_h3 : k0_cond3 i = 1#1), ∀ a, (k0_off2073 v66) a + S8x128.size a ≤ S131072x128.size a := fun i v66 k0_hw514 k0_h3 => k0_hw514.2 k0_h3

def k0_off2074 (i : grid0.Coords) : Fin 3 → Nat :=
  let c0_44 : Index := 0#32
  let c0_45 : Index := 0#32
  let arg1 : BitVec 32 := BitVec.ofNat 32 (i 1).val
  let c2_i32_39 : BitVec 32 := 2#32
  let v75 : BitVec 32 := Scalar.muli arg1 c2_i32_39
  let c0_i32_40 : BitVec 32 := 0#32
  let v76 : BitVec 32 := Scalar.addi v75 c0_i32_40
  let c256_i32_41 : BitVec 32 := 256#32
  let v77 : BitVec 32 := Scalar.muli v76 c256_i32_41
  let c1_i32_42 : BitVec 32 := 1#32
  let v78 : BitVec 32 := Scalar.addi v77 c1_i32_42
  let v80 : Index := Scalar.indexCast v78
  ![0, 0, v80.toNat]
def k0_mult1029 (v81 : BitVec 32) : BitVec 32 :=
  v81

def k0_mult1030 (i : grid0.Coords) : BitVec 32 :=
  let arg1 : BitVec 32 := BitVec.ofNat 32 (i 1).val
  let c2_i32_39 : BitVec 32 := 2#32
  let v75 : BitVec 32 := Scalar.muli arg1 c2_i32_39
  let c0_i32_40 : BitVec 32 := 0#32
  let v76 : BitVec 32 := Scalar.addi v75 c0_i32_40
  let c256_i32_41 : BitVec 32 := 256#32
  let v77 : BitVec 32 := Scalar.muli v76 c256_i32_41
  let c1_i32_42 : BitVec 32 := 1#32
  let v78 : BitVec 32 := Scalar.addi v77 c1_i32_42
  let c8_i32_46 : BitVec 32 := 8#32
  let v83 : BitVec 32 := Scalar.muli v78 c8_i32_46
  v83
def k0_off2075 (i : grid0.Coords) : Fin 1 → Nat :=
  let c1_i32_43 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v79 : BitVec 32 := Scalar.subi c1_i32_43 v9
  ![v79.toNat]
def k0_off2076 (i : grid0.Coords) : Fin 3 → Nat :=
  let c1_i32_43 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v79 : BitVec 32 := Scalar.subi c1_i32_43 v9
  let arg1 : BitVec 32 := BitVec.ofNat 32 (i 1).val
  let c2_i32_39 : BitVec 32 := 2#32
  let v75 : BitVec 32 := Scalar.muli arg1 c2_i32_39
  let c0_i32_40 : BitVec 32 := 0#32
  let v76 : BitVec 32 := Scalar.addi v75 c0_i32_40
  let c256_i32_41 : BitVec 32 := 256#32
  let v77 : BitVec 32 := Scalar.muli v76 c256_i32_41
  let c1_i32_42 : BitVec 32 := 1#32
  let v78 : BitVec 32 := Scalar.addi v77 c1_i32_42
  let c8_i32_46 : BitVec 32 := 8#32
  let v83 : BitVec 32 := Scalar.muli v78 c8_i32_46
  let v84 : BitVec 32 := v83
  let c0_i32_47 : BitVec 32 := 0#32
  ![v79.toNat, v84.toNat, 0]
def k0_off2077 (v81 : BitVec 32) : Fin 2 → Nat :=
  let v82 : BitVec 32 := v81
  let c0_i32_48 : BitVec 32 := 0#32
  ![v82.toNat, 0]

def k0_chk515 (i : grid0.Coords) (v81 : BitVec 32) : Prop :=
  (∀ (k0_h3 : k0_cond3 i = 1#1), 8 ∣ (k0_mult1029 v81).toNat) ∧
  (∀ (k0_h3 : k0_cond3 i = 1#1), ∀ a, (k0_off2077 v81) a + S8x128.size a ≤ S131072x128.size a)
theorem k0_mult1029_dvd : ∀ (i : grid0.Coords) (v81 : BitVec 32) (k0_hw515 : k0_chk515 i v81), ∀ (k0_h3 : k0_cond3 i = 1#1), 8 ∣ (k0_mult1029 v81).toNat := fun i v81 k0_hw515 k0_h3 => k0_hw515.1 k0_h3
theorem k0_off2077_inb : ∀ (i : grid0.Coords) (v81 : BitVec 32) (k0_hw515 : k0_chk515 i v81), ∀ (k0_h3 : k0_cond3 i = 1#1), ∀ a, (k0_off2077 v81) a + S8x128.size a ≤ S131072x128.size a := fun i v81 k0_hw515 k0_h3 => k0_hw515.2 k0_h3

def k0_off2078 (i : grid0.Coords) : Fin 3 → Nat :=
  let c0_54 : Index := 0#32
  let c0_55 : Index := 0#32
  let arg1 : BitVec 32 := BitVec.ofNat 32 (i 1).val
  let c2_i32_49 : BitVec 32 := 2#32
  let v90 : BitVec 32 := Scalar.muli arg1 c2_i32_49
  let c0_i32_50 : BitVec 32 := 0#32
  let v91 : BitVec 32 := Scalar.addi v90 c0_i32_50
  let c256_i32_51 : BitVec 32 := 256#32
  let v92 : BitVec 32 := Scalar.muli v91 c256_i32_51
  let c2_i32_52 : BitVec 32 := 2#32
  let v93 : BitVec 32 := Scalar.addi v92 c2_i32_52
  let v95 : Index := Scalar.indexCast v93
  ![0, 0, v95.toNat]
def k0_mult1031 (v96 : BitVec 32) : BitVec 32 :=
  v96

def k0_mult1032 (i : grid0.Coords) : BitVec 32 :=
  let arg1 : BitVec 32 := BitVec.ofNat 32 (i 1).val
  let c2_i32_49 : BitVec 32 := 2#32
  let v90 : BitVec 32 := Scalar.muli arg1 c2_i32_49
  let c0_i32_50 : BitVec 32 := 0#32
  let v91 : BitVec 32 := Scalar.addi v90 c0_i32_50
  let c256_i32_51 : BitVec 32 := 256#32
  let v92 : BitVec 32 := Scalar.muli v91 c256_i32_51
  let c2_i32_52 : BitVec 32 := 2#32
  let v93 : BitVec 32 := Scalar.addi v92 c2_i32_52
  let c8_i32_56 : BitVec 32 := 8#32
  let v98 : BitVec 32 := Scalar.muli v93 c8_i32_56
  v98
def k0_off2079 (i : grid0.Coords) : Fin 1 → Nat :=
  let c1_i32_53 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v94 : BitVec 32 := Scalar.subi c1_i32_53 v9
  ![v94.toNat]
def k0_off2080 (i : grid0.Coords) : Fin 3 → Nat :=
  let c1_i32_53 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v94 : BitVec 32 := Scalar.subi c1_i32_53 v9
  let arg1 : BitVec 32 := BitVec.ofNat 32 (i 1).val
  let c2_i32_49 : BitVec 32 := 2#32
  let v90 : BitVec 32 := Scalar.muli arg1 c2_i32_49
  let c0_i32_50 : BitVec 32 := 0#32
  let v91 : BitVec 32 := Scalar.addi v90 c0_i32_50
  let c256_i32_51 : BitVec 32 := 256#32
  let v92 : BitVec 32 := Scalar.muli v91 c256_i32_51
  let c2_i32_52 : BitVec 32 := 2#32
  let v93 : BitVec 32 := Scalar.addi v92 c2_i32_52
  let c8_i32_56 : BitVec 32 := 8#32
  let v98 : BitVec 32 := Scalar.muli v93 c8_i32_56
  let v99 : BitVec 32 := v98
  let c0_i32_57 : BitVec 32 := 0#32
  ![v94.toNat, v99.toNat, 0]
def k0_off2081 (v96 : BitVec 32) : Fin 2 → Nat :=
  let v97 : BitVec 32 := v96
  let c0_i32_58 : BitVec 32 := 0#32
  ![v97.toNat, 0]

def k0_chk516 (i : grid0.Coords) (v96 : BitVec 32) : Prop :=
  (∀ (k0_h3 : k0_cond3 i = 1#1), 8 ∣ (k0_mult1031 v96).toNat) ∧
  (∀ (k0_h3 : k0_cond3 i = 1#1), ∀ a, (k0_off2081 v96) a + S8x128.size a ≤ S131072x128.size a)
theorem k0_mult1031_dvd : ∀ (i : grid0.Coords) (v96 : BitVec 32) (k0_hw516 : k0_chk516 i v96), ∀ (k0_h3 : k0_cond3 i = 1#1), 8 ∣ (k0_mult1031 v96).toNat := fun i v96 k0_hw516 k0_h3 => k0_hw516.1 k0_h3
theorem k0_off2081_inb : ∀ (i : grid0.Coords) (v96 : BitVec 32) (k0_hw516 : k0_chk516 i v96), ∀ (k0_h3 : k0_cond3 i = 1#1), ∀ a, (k0_off2081 v96) a + S8x128.size a ≤ S131072x128.size a := fun i v96 k0_hw516 k0_h3 => k0_hw516.2 k0_h3

def k0_off2082 (i : grid0.Coords) : Fin 3 → Nat :=
  let c0_64 : Index := 0#32
  let c0_65 : Index := 0#32
  let arg1 : BitVec 32 := BitVec.ofNat 32 (i 1).val
  let c2_i32_59 : BitVec 32 := 2#32
  let v105 : BitVec 32 := Scalar.muli arg1 c2_i32_59
  let c0_i32_60 : BitVec 32 := 0#32
  let v106 : BitVec 32 := Scalar.addi v105 c0_i32_60
  let c256_i32_61 : BitVec 32 := 256#32
  let v107 : BitVec 32 := Scalar.muli v106 c256_i32_61
  let c3_i32_62 : BitVec 32 := 3#32
  let v108 : BitVec 32 := Scalar.addi v107 c3_i32_62
  let v110 : Index := Scalar.indexCast v108
  ![0, 0, v110.toNat]
def k0_mult1033 (v111 : BitVec 32) : BitVec 32 :=
  v111

def k0_mult1034 (i : grid0.Coords) : BitVec 32 :=
  let arg1 : BitVec 32 := BitVec.ofNat 32 (i 1).val
  let c2_i32_59 : BitVec 32 := 2#32
  let v105 : BitVec 32 := Scalar.muli arg1 c2_i32_59
  let c0_i32_60 : BitVec 32 := 0#32
  let v106 : BitVec 32 := Scalar.addi v105 c0_i32_60
  let c256_i32_61 : BitVec 32 := 256#32
  let v107 : BitVec 32 := Scalar.muli v106 c256_i32_61
  let c3_i32_62 : BitVec 32 := 3#32
  let v108 : BitVec 32 := Scalar.addi v107 c3_i32_62
  let c8_i32_66 : BitVec 32 := 8#32
  let v113 : BitVec 32 := Scalar.muli v108 c8_i32_66
  v113
def k0_off2083 (i : grid0.Coords) : Fin 1 → Nat :=
  let c1_i32_63 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v109 : BitVec 32 := Scalar.subi c1_i32_63 v9
  ![v109.toNat]
def k0_off2084 (i : grid0.Coords) : Fin 3 → Nat :=
  let c1_i32_63 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v109 : BitVec 32 := Scalar.subi c1_i32_63 v9
  let arg1 : BitVec 32 := BitVec.ofNat 32 (i 1).val
  let c2_i32_59 : BitVec 32 := 2#32
  let v105 : BitVec 32 := Scalar.muli arg1 c2_i32_59
  let c0_i32_60 : BitVec 32 := 0#32
  let v106 : BitVec 32 := Scalar.addi v105 c0_i32_60
  let c256_i32_61 : BitVec 32 := 256#32
  let v107 : BitVec 32 := Scalar.muli v106 c256_i32_61
  let c3_i32_62 : BitVec 32 := 3#32
  let v108 : BitVec 32 := Scalar.addi v107 c3_i32_62
  let c8_i32_66 : BitVec 32 := 8#32
  let v113 : BitVec 32 := Scalar.muli v108 c8_i32_66
  let v114 : BitVec 32 := v113
  let c0_i32_67 : BitVec 32 := 0#32
  ![v109.toNat, v114.toNat, 0]
def k0_off2085 (v111 : BitVec 32) : Fin 2 → Nat :=
  let v112 : BitVec 32 := v111
  let c0_i32_68 : BitVec 32 := 0#32
  ![v112.toNat, 0]

def k0_chk517 (i : grid0.Coords) (v111 : BitVec 32) : Prop :=
  (∀ (k0_h3 : k0_cond3 i = 1#1), 8 ∣ (k0_mult1033 v111).toNat) ∧
  (∀ (k0_h3 : k0_cond3 i = 1#1), ∀ a, (k0_off2085 v111) a + S8x128.size a ≤ S131072x128.size a)
theorem k0_mult1033_dvd : ∀ (i : grid0.Coords) (v111 : BitVec 32) (k0_hw517 : k0_chk517 i v111), ∀ (k0_h3 : k0_cond3 i = 1#1), 8 ∣ (k0_mult1033 v111).toNat := fun i v111 k0_hw517 k0_h3 => k0_hw517.1 k0_h3
theorem k0_off2085_inb : ∀ (i : grid0.Coords) (v111 : BitVec 32) (k0_hw517 : k0_chk517 i v111), ∀ (k0_h3 : k0_cond3 i = 1#1), ∀ a, (k0_off2085 v111) a + S8x128.size a ≤ S131072x128.size a := fun i v111 k0_hw517 k0_h3 => k0_hw517.2 k0_h3

def k0_off2086 (i : grid0.Coords) : Fin 3 → Nat :=
  let c0_73 : Index := 0#32
  let c0_74 : Index := 0#32
  let arg1 : BitVec 32 := BitVec.ofNat 32 (i 1).val
  let c2_i32_69 : BitVec 32 := 2#32
  let v120 : BitVec 32 := Scalar.muli arg1 c2_i32_69
  let c0_i32_70 : BitVec 32 := 0#32
  let v121 : BitVec 32 := Scalar.addi v120 c0_i32_70
  let c256_i32_71 : BitVec 32 := 256#32
  let v122 : BitVec 32 := Scalar.muli v121 c256_i32_71
  let c4_i32 : BitVec 32 := 4#32
  let v123 : BitVec 32 := Scalar.addi v122 c4_i32
  let v125 : Index := Scalar.indexCast v123
  ![0, 0, v125.toNat]
def k0_mult1035 (v126 : BitVec 32) : BitVec 32 :=
  v126

def k0_mult1036 (i : grid0.Coords) : BitVec 32 :=
  let arg1 : BitVec 32 := BitVec.ofNat 32 (i 1).val
  let c2_i32_69 : BitVec 32 := 2#32
  let v120 : BitVec 32 := Scalar.muli arg1 c2_i32_69
  let c0_i32_70 : BitVec 32 := 0#32
  let v121 : BitVec 32 := Scalar.addi v120 c0_i32_70
  let c256_i32_71 : BitVec 32 := 256#32
  let v122 : BitVec 32 := Scalar.muli v121 c256_i32_71
  let c4_i32 : BitVec 32 := 4#32
  let v123 : BitVec 32 := Scalar.addi v122 c4_i32
  let c8_i32_75 : BitVec 32 := 8#32
  let v128 : BitVec 32 := Scalar.muli v123 c8_i32_75
  v128
def k0_off2087 (i : grid0.Coords) : Fin 1 → Nat :=
  let c1_i32_72 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v124 : BitVec 32 := Scalar.subi c1_i32_72 v9
  ![v124.toNat]
def k0_off2088 (i : grid0.Coords) : Fin 3 → Nat :=
  let c1_i32_72 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v124 : BitVec 32 := Scalar.subi c1_i32_72 v9
  let arg1 : BitVec 32 := BitVec.ofNat 32 (i 1).val
  let c2_i32_69 : BitVec 32 := 2#32
  let v120 : BitVec 32 := Scalar.muli arg1 c2_i32_69
  let c0_i32_70 : BitVec 32 := 0#32
  let v121 : BitVec 32 := Scalar.addi v120 c0_i32_70
  let c256_i32_71 : BitVec 32 := 256#32
  let v122 : BitVec 32 := Scalar.muli v121 c256_i32_71
  let c4_i32 : BitVec 32 := 4#32
  let v123 : BitVec 32 := Scalar.addi v122 c4_i32
  let c8_i32_75 : BitVec 32 := 8#32
  let v128 : BitVec 32 := Scalar.muli v123 c8_i32_75
  let v129 : BitVec 32 := v128
  let c0_i32_76 : BitVec 32 := 0#32
  ![v124.toNat, v129.toNat, 0]
def k0_off2089 (v126 : BitVec 32) : Fin 2 → Nat :=
  let v127 : BitVec 32 := v126
  let c0_i32_77 : BitVec 32 := 0#32
  ![v127.toNat, 0]

def k0_chk518 (i : grid0.Coords) (v126 : BitVec 32) : Prop :=
  (∀ (k0_h3 : k0_cond3 i = 1#1), 8 ∣ (k0_mult1035 v126).toNat) ∧
  (∀ (k0_h3 : k0_cond3 i = 1#1), ∀ a, (k0_off2089 v126) a + S8x128.size a ≤ S131072x128.size a)
theorem k0_mult1035_dvd : ∀ (i : grid0.Coords) (v126 : BitVec 32) (k0_hw518 : k0_chk518 i v126), ∀ (k0_h3 : k0_cond3 i = 1#1), 8 ∣ (k0_mult1035 v126).toNat := fun i v126 k0_hw518 k0_h3 => k0_hw518.1 k0_h3
theorem k0_off2089_inb : ∀ (i : grid0.Coords) (v126 : BitVec 32) (k0_hw518 : k0_chk518 i v126), ∀ (k0_h3 : k0_cond3 i = 1#1), ∀ a, (k0_off2089 v126) a + S8x128.size a ≤ S131072x128.size a := fun i v126 k0_hw518 k0_h3 => k0_hw518.2 k0_h3

def k0_off2090 (i : grid0.Coords) : Fin 3 → Nat :=
  let c0_82 : Index := 0#32
  let c0_83 : Index := 0#32
  let arg1 : BitVec 32 := BitVec.ofNat 32 (i 1).val
  let c2_i32_78 : BitVec 32 := 2#32
  let v135 : BitVec 32 := Scalar.muli arg1 c2_i32_78
  let c0_i32_79 : BitVec 32 := 0#32
  let v136 : BitVec 32 := Scalar.addi v135 c0_i32_79
  let c256_i32_80 : BitVec 32 := 256#32
  let v137 : BitVec 32 := Scalar.muli v136 c256_i32_80
  let c5_i32 : BitVec 32 := 5#32
  let v138 : BitVec 32 := Scalar.addi v137 c5_i32
  let v140 : Index := Scalar.indexCast v138
  ![0, 0, v140.toNat]
def k0_mult1037 (v141 : BitVec 32) : BitVec 32 :=
  v141

def k0_mult1038 (i : grid0.Coords) : BitVec 32 :=
  let arg1 : BitVec 32 := BitVec.ofNat 32 (i 1).val
  let c2_i32_78 : BitVec 32 := 2#32
  let v135 : BitVec 32 := Scalar.muli arg1 c2_i32_78
  let c0_i32_79 : BitVec 32 := 0#32
  let v136 : BitVec 32 := Scalar.addi v135 c0_i32_79
  let c256_i32_80 : BitVec 32 := 256#32
  let v137 : BitVec 32 := Scalar.muli v136 c256_i32_80
  let c5_i32 : BitVec 32 := 5#32
  let v138 : BitVec 32 := Scalar.addi v137 c5_i32
  let c8_i32_84 : BitVec 32 := 8#32
  let v143 : BitVec 32 := Scalar.muli v138 c8_i32_84
  v143
def k0_off2091 (i : grid0.Coords) : Fin 1 → Nat :=
  let c1_i32_81 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v139 : BitVec 32 := Scalar.subi c1_i32_81 v9
  ![v139.toNat]
def k0_off2092 (i : grid0.Coords) : Fin 3 → Nat :=
  let c1_i32_81 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v139 : BitVec 32 := Scalar.subi c1_i32_81 v9
  let arg1 : BitVec 32 := BitVec.ofNat 32 (i 1).val
  let c2_i32_78 : BitVec 32 := 2#32
  let v135 : BitVec 32 := Scalar.muli arg1 c2_i32_78
  let c0_i32_79 : BitVec 32 := 0#32
  let v136 : BitVec 32 := Scalar.addi v135 c0_i32_79
  let c256_i32_80 : BitVec 32 := 256#32
  let v137 : BitVec 32 := Scalar.muli v136 c256_i32_80
  let c5_i32 : BitVec 32 := 5#32
  let v138 : BitVec 32 := Scalar.addi v137 c5_i32
  let c8_i32_84 : BitVec 32 := 8#32
  let v143 : BitVec 32 := Scalar.muli v138 c8_i32_84
  let v144 : BitVec 32 := v143
  let c0_i32_85 : BitVec 32 := 0#32
  ![v139.toNat, v144.toNat, 0]
def k0_off2093 (v141 : BitVec 32) : Fin 2 → Nat :=
  let v142 : BitVec 32 := v141
  let c0_i32_86 : BitVec 32 := 0#32
  ![v142.toNat, 0]

def k0_chk519 (i : grid0.Coords) (v141 : BitVec 32) : Prop :=
  (∀ (k0_h3 : k0_cond3 i = 1#1), 8 ∣ (k0_mult1037 v141).toNat) ∧
  (∀ (k0_h3 : k0_cond3 i = 1#1), ∀ a, (k0_off2093 v141) a + S8x128.size a ≤ S131072x128.size a)
theorem k0_mult1037_dvd : ∀ (i : grid0.Coords) (v141 : BitVec 32) (k0_hw519 : k0_chk519 i v141), ∀ (k0_h3 : k0_cond3 i = 1#1), 8 ∣ (k0_mult1037 v141).toNat := fun i v141 k0_hw519 k0_h3 => k0_hw519.1 k0_h3
theorem k0_off2093_inb : ∀ (i : grid0.Coords) (v141 : BitVec 32) (k0_hw519 : k0_chk519 i v141), ∀ (k0_h3 : k0_cond3 i = 1#1), ∀ a, (k0_off2093 v141) a + S8x128.size a ≤ S131072x128.size a := fun i v141 k0_hw519 k0_h3 => k0_hw519.2 k0_h3

def k0_off2094 (i : grid0.Coords) : Fin 3 → Nat :=
  let c0_91 : Index := 0#32
  let c0_92 : Index := 0#32
  let arg1 : BitVec 32 := BitVec.ofNat 32 (i 1).val
  let c2_i32_87 : BitVec 32 := 2#32
  let v150 : BitVec 32 := Scalar.muli arg1 c2_i32_87
  let c0_i32_88 : BitVec 32 := 0#32
  let v151 : BitVec 32 := Scalar.addi v150 c0_i32_88
  let c256_i32_89 : BitVec 32 := 256#32
  let v152 : BitVec 32 := Scalar.muli v151 c256_i32_89
  let c6_i32 : BitVec 32 := 6#32
  let v153 : BitVec 32 := Scalar.addi v152 c6_i32
  let v155 : Index := Scalar.indexCast v153
  ![0, 0, v155.toNat]
def k0_mult1039 (v156 : BitVec 32) : BitVec 32 :=
  v156

def k0_mult1040 (i : grid0.Coords) : BitVec 32 :=
  let arg1 : BitVec 32 := BitVec.ofNat 32 (i 1).val
  let c2_i32_87 : BitVec 32 := 2#32
  let v150 : BitVec 32 := Scalar.muli arg1 c2_i32_87
  let c0_i32_88 : BitVec 32 := 0#32
  let v151 : BitVec 32 := Scalar.addi v150 c0_i32_88
  let c256_i32_89 : BitVec 32 := 256#32
  let v152 : BitVec 32 := Scalar.muli v151 c256_i32_89
  let c6_i32 : BitVec 32 := 6#32
  let v153 : BitVec 32 := Scalar.addi v152 c6_i32
  let c8_i32_93 : BitVec 32 := 8#32
  let v158 : BitVec 32 := Scalar.muli v153 c8_i32_93
  v158
def k0_off2095 (i : grid0.Coords) : Fin 1 → Nat :=
  let c1_i32_90 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_90 v9
  ![v154.toNat]
def k0_off2096 (i : grid0.Coords) : Fin 3 → Nat :=
  let c1_i32_90 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v154 : BitVec 32 := Scalar.subi c1_i32_90 v9
  let arg1 : BitVec 32 := BitVec.ofNat 32 (i 1).val
  let c2_i32_87 : BitVec 32 := 2#32
  let v150 : BitVec 32 := Scalar.muli arg1 c2_i32_87
  let c0_i32_88 : BitVec 32 := 0#32
  let v151 : BitVec 32 := Scalar.addi v150 c0_i32_88
  let c256_i32_89 : BitVec 32 := 256#32
  let v152 : BitVec 32 := Scalar.muli v151 c256_i32_89
  let c6_i32 : BitVec 32 := 6#32
  let v153 : BitVec 32 := Scalar.addi v152 c6_i32
  let c8_i32_93 : BitVec 32 := 8#32
  let v158 : BitVec 32 := Scalar.muli v153 c8_i32_93
  let v159 : BitVec 32 := v158
  let c0_i32_94 : BitVec 32 := 0#32
  ![v154.toNat, v159.toNat, 0]
def k0_off2097 (v156 : BitVec 32) : Fin 2 → Nat :=
  let v157 : BitVec 32 := v156
  let c0_i32_95 : BitVec 32 := 0#32
  ![v157.toNat, 0]

def k0_chk520 (i : grid0.Coords) (v156 : BitVec 32) : Prop :=
  (∀ (k0_h3 : k0_cond3 i = 1#1), 8 ∣ (k0_mult1039 v156).toNat) ∧
  (∀ (k0_h3 : k0_cond3 i = 1#1), ∀ a, (k0_off2097 v156) a + S8x128.size a ≤ S131072x128.size a)
theorem k0_mult1039_dvd : ∀ (i : grid0.Coords) (v156 : BitVec 32) (k0_hw520 : k0_chk520 i v156), ∀ (k0_h3 : k0_cond3 i = 1#1), 8 ∣ (k0_mult1039 v156).toNat := fun i v156 k0_hw520 k0_h3 => k0_hw520.1 k0_h3
theorem k0_off2097_inb : ∀ (i : grid0.Coords) (v156 : BitVec 32) (k0_hw520 : k0_chk520 i v156), ∀ (k0_h3 : k0_cond3 i = 1#1), ∀ a, (k0_off2097 v156) a + S8x128.size a ≤ S131072x128.size a := fun i v156 k0_hw520 k0_h3 => k0_hw520.2 k0_h3

def k0_off2098 (i : grid0.Coords) : Fin 3 → Nat :=
  let c0_100 : Index := 0#32
  let c0_101 : Index := 0#32
  let arg1 : BitVec 32 := BitVec.ofNat 32 (i 1).val
  let c2_i32_96 : BitVec 32 := 2#32
  let v165 : BitVec 32 := Scalar.muli arg1 c2_i32_96
  let c0_i32_97 : BitVec 32 := 0#32
  let v166 : BitVec 32 := Scalar.addi v165 c0_i32_97
  let c256_i32_98 : BitVec 32 := 256#32
  let v167 : BitVec 32 := Scalar.muli v166 c256_i32_98
  let c7_i32 : BitVec 32 := 7#32
  let v168 : BitVec 32 := Scalar.addi v167 c7_i32
  let v170 : Index := Scalar.indexCast v168
  ![0, 0, v170.toNat]
def k0_mult1041 (v171 : BitVec 32) : BitVec 32 :=
  v171

def k0_mult1042 (i : grid0.Coords) : BitVec 32 :=
  let arg1 : BitVec 32 := BitVec.ofNat 32 (i 1).val
  let c2_i32_96 : BitVec 32 := 2#32
  let v165 : BitVec 32 := Scalar.muli arg1 c2_i32_96
  let c0_i32_97 : BitVec 32 := 0#32
  let v166 : BitVec 32 := Scalar.addi v165 c0_i32_97
  let c256_i32_98 : BitVec 32 := 256#32
  let v167 : BitVec 32 := Scalar.muli v166 c256_i32_98
  let c7_i32 : BitVec 32 := 7#32
  let v168 : BitVec 32 := Scalar.addi v167 c7_i32
  let c8_i32_102 : BitVec 32 := 8#32
  let v173 : BitVec 32 := Scalar.muli v168 c8_i32_102
  v173
def k0_off2099 (i : grid0.Coords) : Fin 1 → Nat :=
  let c1_i32_99 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v169 : BitVec 32 := Scalar.subi c1_i32_99 v9
  ![v169.toNat]
def k0_off2100 (i : grid0.Coords) : Fin 3 → Nat :=
  let c1_i32_99 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v169 : BitVec 32 := Scalar.subi c1_i32_99 v9
  let arg1 : BitVec 32 := BitVec.ofNat 32 (i 1).val
  let c2_i32_96 : BitVec 32 := 2#32
  let v165 : BitVec 32 := Scalar.muli arg1 c2_i32_96
  let c0_i32_97 : BitVec 32 := 0#32
  let v166 : BitVec 32 := Scalar.addi v165 c0_i32_97
  let c256_i32_98 : BitVec 32 := 256#32
  let v167 : BitVec 32 := Scalar.muli v166 c256_i32_98
  let c7_i32 : BitVec 32 := 7#32
  let v168 : BitVec 32 := Scalar.addi v167 c7_i32
  let c8_i32_102 : BitVec 32 := 8#32
  let v173 : BitVec 32 := Scalar.muli v168 c8_i32_102
  let v174 : BitVec 32 := v173
  let c0_i32_103 : BitVec 32 := 0#32
  ![v169.toNat, v174.toNat, 0]
def k0_off2101 (v171 : BitVec 32) : Fin 2 → Nat :=
  let v172 : BitVec 32 := v171
  let c0_i32_104 : BitVec 32 := 0#32
  ![v172.toNat, 0]

def k0_chk521 (i : grid0.Coords) (v171 : BitVec 32) : Prop :=
  (∀ (k0_h3 : k0_cond3 i = 1#1), 8 ∣ (k0_mult1041 v171).toNat) ∧
  (∀ (k0_h3 : k0_cond3 i = 1#1), ∀ a, (k0_off2101 v171) a + S8x128.size a ≤ S131072x128.size a)
theorem k0_mult1041_dvd : ∀ (i : grid0.Coords) (v171 : BitVec 32) (k0_hw521 : k0_chk521 i v171), ∀ (k0_h3 : k0_cond3 i = 1#1), 8 ∣ (k0_mult1041 v171).toNat := fun i v171 k0_hw521 k0_h3 => k0_hw521.1 k0_h3
theorem k0_off2101_inb : ∀ (i : grid0.Coords) (v171 : BitVec 32) (k0_hw521 : k0_chk521 i v171), ∀ (k0_h3 : k0_cond3 i = 1#1), ∀ a, (k0_off2101 v171) a + S8x128.size a ≤ S131072x128.size a := fun i v171 k0_hw521 k0_h3 => k0_hw521.2 k0_h3

def k0_off2102 (i : grid0.Coords) : Fin 3 → Nat :=
  let c0_110 : Index := 0#32
  let c0_111 : Index := 0#32
  let arg1 : BitVec 32 := BitVec.ofNat 32 (i 1).val
  let c2_i32_105 : BitVec 32 := 2#32
  let v180 : BitVec 32 := Scalar.muli arg1 c2_i32_105
  let c0_i32_106 : BitVec 32 := 0#32
  let v181 : BitVec 32 := Scalar.addi v180 c0_i32_106
  let c256_i32_107 : BitVec 32 := 256#32
  let v182 : BitVec 32 := Scalar.muli v181 c256_i32_107
  let c8_i32_108 : BitVec 32 := 8#32
  let v183 : BitVec 32 := Scalar.addi v182 c8_i32_108
  let v185 : Index := Scalar.indexCast v183
  ![0, 0, v185.toNat]
def k0_mult1043 (v186 : BitVec 32) : BitVec 32 :=
  v186

def k0_mult1044 (i : grid0.Coords) : BitVec 32 :=
  let arg1 : BitVec 32 := BitVec.ofNat 32 (i 1).val
  let c2_i32_105 : BitVec 32 := 2#32
  let v180 : BitVec 32 := Scalar.muli arg1 c2_i32_105
  let c0_i32_106 : BitVec 32 := 0#32
  let v181 : BitVec 32 := Scalar.addi v180 c0_i32_106
  let c256_i32_107 : BitVec 32 := 256#32
  let v182 : BitVec 32 := Scalar.muli v181 c256_i32_107
  let c8_i32_108 : BitVec 32 := 8#32
  let v183 : BitVec 32 := Scalar.addi v182 c8_i32_108
  let c8_i32_112 : BitVec 32 := 8#32
  let v188 : BitVec 32 := Scalar.muli v183 c8_i32_112
  v188
def k0_off2103 (i : grid0.Coords) : Fin 1 → Nat :=
  let c1_i32_109 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v184 : BitVec 32 := Scalar.subi c1_i32_109 v9
  ![v184.toNat]
def k0_off2104 (i : grid0.Coords) : Fin 3 → Nat :=
  let c1_i32_109 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v184 : BitVec 32 := Scalar.subi c1_i32_109 v9
  let arg1 : BitVec 32 := BitVec.ofNat 32 (i 1).val
  let c2_i32_105 : BitVec 32 := 2#32
  let v180 : BitVec 32 := Scalar.muli arg1 c2_i32_105
  let c0_i32_106 : BitVec 32 := 0#32
  let v181 : BitVec 32 := Scalar.addi v180 c0_i32_106
  let c256_i32_107 : BitVec 32 := 256#32
  let v182 : BitVec 32 := Scalar.muli v181 c256_i32_107
  let c8_i32_108 : BitVec 32 := 8#32
  let v183 : BitVec 32 := Scalar.addi v182 c8_i32_108
  let c8_i32_112 : BitVec 32 := 8#32
  let v188 : BitVec 32 := Scalar.muli v183 c8_i32_112
  let v189 : BitVec 32 := v188
  let c0_i32_113 : BitVec 32 := 0#32
  ![v184.toNat, v189.toNat, 0]
def k0_off2105 (v186 : BitVec 32) : Fin 2 → Nat :=
  let v187 : BitVec 32 := v186
  let c0_i32_114 : BitVec 32 := 0#32
  ![v187.toNat, 0]

def k0_chk522 (i : grid0.Coords) (v186 : BitVec 32) : Prop :=
  (∀ (k0_h3 : k0_cond3 i = 1#1), 8 ∣ (k0_mult1043 v186).toNat) ∧
  (∀ (k0_h3 : k0_cond3 i = 1#1), ∀ a, (k0_off2105 v186) a + S8x128.size a ≤ S131072x128.size a)
theorem k0_mult1043_dvd : ∀ (i : grid0.Coords) (v186 : BitVec 32) (k0_hw522 : k0_chk522 i v186), ∀ (k0_h3 : k0_cond3 i = 1#1), 8 ∣ (k0_mult1043 v186).toNat := fun i v186 k0_hw522 k0_h3 => k0_hw522.1 k0_h3
theorem k0_off2105_inb : ∀ (i : grid0.Coords) (v186 : BitVec 32) (k0_hw522 : k0_chk522 i v186), ∀ (k0_h3 : k0_cond3 i = 1#1), ∀ a, (k0_off2105 v186) a + S8x128.size a ≤ S131072x128.size a := fun i v186 k0_hw522 k0_h3 => k0_hw522.2 k0_h3

def k0_off2106 (i : grid0.Coords) : Fin 3 → Nat :=
  let c0_119 : Index := 0#32
  let c0_120 : Index := 0#32
  let arg1 : BitVec 32 := BitVec.ofNat 32 (i 1).val
  let c2_i32_115 : BitVec 32 := 2#32
  let v195 : BitVec 32 := Scalar.muli arg1 c2_i32_115
  let c0_i32_116 : BitVec 32 := 0#32
  let v196 : BitVec 32 := Scalar.addi v195 c0_i32_116
  let c256_i32_117 : BitVec 32 := 256#32
  let v197 : BitVec 32 := Scalar.muli v196 c256_i32_117
  let c9_i32 : BitVec 32 := 9#32
  let v198 : BitVec 32 := Scalar.addi v197 c9_i32
  let v200 : Index := Scalar.indexCast v198
  ![0, 0, v200.toNat]
def k0_mult1045 (v201 : BitVec 32) : BitVec 32 :=
  v201

def k0_mult1046 (i : grid0.Coords) : BitVec 32 :=
  let arg1 : BitVec 32 := BitVec.ofNat 32 (i 1).val
  let c2_i32_115 : BitVec 32 := 2#32
  let v195 : BitVec 32 := Scalar.muli arg1 c2_i32_115
  let c0_i32_116 : BitVec 32 := 0#32
  let v196 : BitVec 32 := Scalar.addi v195 c0_i32_116
  let c256_i32_117 : BitVec 32 := 256#32
  let v197 : BitVec 32 := Scalar.muli v196 c256_i32_117
  let c9_i32 : BitVec 32 := 9#32
  let v198 : BitVec 32 := Scalar.addi v197 c9_i32
  let c8_i32_121 : BitVec 32 := 8#32
  let v203 : BitVec 32 := Scalar.muli v198 c8_i32_121
  v203
def k0_off2107 (i : grid0.Coords) : Fin 1 → Nat :=
  let c1_i32_118 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v199 : BitVec 32 := Scalar.subi c1_i32_118 v9
  ![v199.toNat]
def k0_off2108 (i : grid0.Coords) : Fin 3 → Nat :=
  let c1_i32_118 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v199 : BitVec 32 := Scalar.subi c1_i32_118 v9
  let arg1 : BitVec 32 := BitVec.ofNat 32 (i 1).val
  let c2_i32_115 : BitVec 32 := 2#32
  let v195 : BitVec 32 := Scalar.muli arg1 c2_i32_115
  let c0_i32_116 : BitVec 32 := 0#32
  let v196 : BitVec 32 := Scalar.addi v195 c0_i32_116
  let c256_i32_117 : BitVec 32 := 256#32
  let v197 : BitVec 32 := Scalar.muli v196 c256_i32_117
  let c9_i32 : BitVec 32 := 9#32
  let v198 : BitVec 32 := Scalar.addi v197 c9_i32
  let c8_i32_121 : BitVec 32 := 8#32
  let v203 : BitVec 32 := Scalar.muli v198 c8_i32_121
  let v204 : BitVec 32 := v203
  let c0_i32_122 : BitVec 32 := 0#32
  ![v199.toNat, v204.toNat, 0]
def k0_off2109 (v201 : BitVec 32) : Fin 2 → Nat :=
  let v202 : BitVec 32 := v201
  let c0_i32_123 : BitVec 32 := 0#32
  ![v202.toNat, 0]

def k0_chk523 (i : grid0.Coords) (v201 : BitVec 32) : Prop :=
  (∀ (k0_h3 : k0_cond3 i = 1#1), 8 ∣ (k0_mult1045 v201).toNat) ∧
  (∀ (k0_h3 : k0_cond3 i = 1#1), ∀ a, (k0_off2109 v201) a + S8x128.size a ≤ S131072x128.size a)
theorem k0_mult1045_dvd : ∀ (i : grid0.Coords) (v201 : BitVec 32) (k0_hw523 : k0_chk523 i v201), ∀ (k0_h3 : k0_cond3 i = 1#1), 8 ∣ (k0_mult1045 v201).toNat := fun i v201 k0_hw523 k0_h3 => k0_hw523.1 k0_h3
theorem k0_off2109_inb : ∀ (i : grid0.Coords) (v201 : BitVec 32) (k0_hw523 : k0_chk523 i v201), ∀ (k0_h3 : k0_cond3 i = 1#1), ∀ a, (k0_off2109 v201) a + S8x128.size a ≤ S131072x128.size a := fun i v201 k0_hw523 k0_h3 => k0_hw523.2 k0_h3

def k0_off2110 (i : grid0.Coords) : Fin 3 → Nat :=
  let c0_128 : Index := 0#32
  let c0_129 : Index := 0#32
  let arg1 : BitVec 32 := BitVec.ofNat 32 (i 1).val
  let c2_i32_124 : BitVec 32 := 2#32
  let v210 : BitVec 32 := Scalar.muli arg1 c2_i32_124
  let c0_i32_125 : BitVec 32 := 0#32
  let v211 : BitVec 32 := Scalar.addi v210 c0_i32_125
  let c256_i32_126 : BitVec 32 := 256#32
  let v212 : BitVec 32 := Scalar.muli v211 c256_i32_126
  let c10_i32 : BitVec 32 := 10#32
  let v213 : BitVec 32 := Scalar.addi v212 c10_i32
  let v215 : Index := Scalar.indexCast v213
  ![0, 0, v215.toNat]
def k0_mult1047 (v216 : BitVec 32) : BitVec 32 :=
  v216

def k0_mult1048 (i : grid0.Coords) : BitVec 32 :=
  let arg1 : BitVec 32 := BitVec.ofNat 32 (i 1).val
  let c2_i32_124 : BitVec 32 := 2#32
  let v210 : BitVec 32 := Scalar.muli arg1 c2_i32_124
  let c0_i32_125 : BitVec 32 := 0#32
  let v211 : BitVec 32 := Scalar.addi v210 c0_i32_125
  let c256_i32_126 : BitVec 32 := 256#32
  let v212 : BitVec 32 := Scalar.muli v211 c256_i32_126
  let c10_i32 : BitVec 32 := 10#32
  let v213 : BitVec 32 := Scalar.addi v212 c10_i32
  let c8_i32_130 : BitVec 32 := 8#32
  let v218 : BitVec 32 := Scalar.muli v213 c8_i32_130
  v218
def k0_off2111 (i : grid0.Coords) : Fin 1 → Nat :=
  let c1_i32_127 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v214 : BitVec 32 := Scalar.subi c1_i32_127 v9
  ![v214.toNat]
def k0_off2112 (i : grid0.Coords) : Fin 3 → Nat :=
  let c1_i32_127 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v214 : BitVec 32 := Scalar.subi c1_i32_127 v9
  let arg1 : BitVec 32 := BitVec.ofNat 32 (i 1).val
  let c2_i32_124 : BitVec 32 := 2#32
  let v210 : BitVec 32 := Scalar.muli arg1 c2_i32_124
  let c0_i32_125 : BitVec 32 := 0#32
  let v211 : BitVec 32 := Scalar.addi v210 c0_i32_125
  let c256_i32_126 : BitVec 32 := 256#32
  let v212 : BitVec 32 := Scalar.muli v211 c256_i32_126
  let c10_i32 : BitVec 32 := 10#32
  let v213 : BitVec 32 := Scalar.addi v212 c10_i32
  let c8_i32_130 : BitVec 32 := 8#32
  let v218 : BitVec 32 := Scalar.muli v213 c8_i32_130
  let v219 : BitVec 32 := v218
  let c0_i32_131 : BitVec 32 := 0#32
  ![v214.toNat, v219.toNat, 0]
def k0_off2113 (v216 : BitVec 32) : Fin 2 → Nat :=
  let v217 : BitVec 32 := v216
  let c0_i32_132 : BitVec 32 := 0#32
  ![v217.toNat, 0]

def k0_chk524 (i : grid0.Coords) (v216 : BitVec 32) : Prop :=
  (∀ (k0_h3 : k0_cond3 i = 1#1), 8 ∣ (k0_mult1047 v216).toNat) ∧
  (∀ (k0_h3 : k0_cond3 i = 1#1), ∀ a, (k0_off2113 v216) a + S8x128.size a ≤ S131072x128.size a)
theorem k0_mult1047_dvd : ∀ (i : grid0.Coords) (v216 : BitVec 32) (k0_hw524 : k0_chk524 i v216), ∀ (k0_h3 : k0_cond3 i = 1#1), 8 ∣ (k0_mult1047 v216).toNat := fun i v216 k0_hw524 k0_h3 => k0_hw524.1 k0_h3
theorem k0_off2113_inb : ∀ (i : grid0.Coords) (v216 : BitVec 32) (k0_hw524 : k0_chk524 i v216), ∀ (k0_h3 : k0_cond3 i = 1#1), ∀ a, (k0_off2113 v216) a + S8x128.size a ≤ S131072x128.size a := fun i v216 k0_hw524 k0_h3 => k0_hw524.2 k0_h3

def k0_off2114 (i : grid0.Coords) : Fin 3 → Nat :=
  let c0_137 : Index := 0#32
  let c0_138 : Index := 0#32
  let arg1 : BitVec 32 := BitVec.ofNat 32 (i 1).val
  let c2_i32_133 : BitVec 32 := 2#32
  let v225 : BitVec 32 := Scalar.muli arg1 c2_i32_133
  let c0_i32_134 : BitVec 32 := 0#32
  let v226 : BitVec 32 := Scalar.addi v225 c0_i32_134
  let c256_i32_135 : BitVec 32 := 256#32
  let v227 : BitVec 32 := Scalar.muli v226 c256_i32_135
  let c11_i32 : BitVec 32 := 11#32
  let v228 : BitVec 32 := Scalar.addi v227 c11_i32
  let v230 : Index := Scalar.indexCast v228
  ![0, 0, v230.toNat]
def k0_mult1049 (v231 : BitVec 32) : BitVec 32 :=
  v231

def k0_mult1050 (i : grid0.Coords) : BitVec 32 :=
  let arg1 : BitVec 32 := BitVec.ofNat 32 (i 1).val
  let c2_i32_133 : BitVec 32 := 2#32
  let v225 : BitVec 32 := Scalar.muli arg1 c2_i32_133
  let c0_i32_134 : BitVec 32 := 0#32
  let v226 : BitVec 32 := Scalar.addi v225 c0_i32_134
  let c256_i32_135 : BitVec 32 := 256#32
  let v227 : BitVec 32 := Scalar.muli v226 c256_i32_135
  let c11_i32 : BitVec 32 := 11#32
  let v228 : BitVec 32 := Scalar.addi v227 c11_i32
  let c8_i32_139 : BitVec 32 := 8#32
  let v233 : BitVec 32 := Scalar.muli v228 c8_i32_139
  v233
def k0_off2115 (i : grid0.Coords) : Fin 1 → Nat :=
  let c1_i32_136 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v229 : BitVec 32 := Scalar.subi c1_i32_136 v9
  ![v229.toNat]
def k0_off2116 (i : grid0.Coords) : Fin 3 → Nat :=
  let c1_i32_136 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v229 : BitVec 32 := Scalar.subi c1_i32_136 v9
  let arg1 : BitVec 32 := BitVec.ofNat 32 (i 1).val
  let c2_i32_133 : BitVec 32 := 2#32
  let v225 : BitVec 32 := Scalar.muli arg1 c2_i32_133
  let c0_i32_134 : BitVec 32 := 0#32
  let v226 : BitVec 32 := Scalar.addi v225 c0_i32_134
  let c256_i32_135 : BitVec 32 := 256#32
  let v227 : BitVec 32 := Scalar.muli v226 c256_i32_135
  let c11_i32 : BitVec 32 := 11#32
  let v228 : BitVec 32 := Scalar.addi v227 c11_i32
  let c8_i32_139 : BitVec 32 := 8#32
  let v233 : BitVec 32 := Scalar.muli v228 c8_i32_139
  let v234 : BitVec 32 := v233
  let c0_i32_140 : BitVec 32 := 0#32
  ![v229.toNat, v234.toNat, 0]
def k0_off2117 (v231 : BitVec 32) : Fin 2 → Nat :=
  let v232 : BitVec 32 := v231
  let c0_i32_141 : BitVec 32 := 0#32
  ![v232.toNat, 0]

def k0_chk525 (i : grid0.Coords) (v231 : BitVec 32) : Prop :=
  (∀ (k0_h3 : k0_cond3 i = 1#1), 8 ∣ (k0_mult1049 v231).toNat) ∧
  (∀ (k0_h3 : k0_cond3 i = 1#1), ∀ a, (k0_off2117 v231) a + S8x128.size a ≤ S131072x128.size a)
theorem k0_mult1049_dvd : ∀ (i : grid0.Coords) (v231 : BitVec 32) (k0_hw525 : k0_chk525 i v231), ∀ (k0_h3 : k0_cond3 i = 1#1), 8 ∣ (k0_mult1049 v231).toNat := fun i v231 k0_hw525 k0_h3 => k0_hw525.1 k0_h3
theorem k0_off2117_inb : ∀ (i : grid0.Coords) (v231 : BitVec 32) (k0_hw525 : k0_chk525 i v231), ∀ (k0_h3 : k0_cond3 i = 1#1), ∀ a, (k0_off2117 v231) a + S8x128.size a ≤ S131072x128.size a := fun i v231 k0_hw525 k0_h3 => k0_hw525.2 k0_h3

def k0_off2118 (i : grid0.Coords) : Fin 3 → Nat :=
  let c0_146 : Index := 0#32
  let c0_147 : Index := 0#32
  let arg1 : BitVec 32 := BitVec.ofNat 32 (i 1).val
  let c2_i32_142 : BitVec 32 := 2#32
  let v240 : BitVec 32 := Scalar.muli arg1 c2_i32_142
  let c0_i32_143 : BitVec 32 := 0#32
  let v241 : BitVec 32 := Scalar.addi v240 c0_i32_143
  let c256_i32_144 : BitVec 32 := 256#32
  let v242 : BitVec 32 := Scalar.muli v241 c256_i32_144
  let c12_i32 : BitVec 32 := 12#32
  let v243 : BitVec 32 := Scalar.addi v242 c12_i32
  let v245 : Index := Scalar.indexCast v243
  ![0, 0, v245.toNat]
def k0_mult1051 (v246 : BitVec 32) : BitVec 32 :=
  v246

def k0_mult1052 (i : grid0.Coords) : BitVec 32 :=
  let arg1 : BitVec 32 := BitVec.ofNat 32 (i 1).val
  let c2_i32_142 : BitVec 32 := 2#32
  let v240 : BitVec 32 := Scalar.muli arg1 c2_i32_142
  let c0_i32_143 : BitVec 32 := 0#32
  let v241 : BitVec 32 := Scalar.addi v240 c0_i32_143
  let c256_i32_144 : BitVec 32 := 256#32
  let v242 : BitVec 32 := Scalar.muli v241 c256_i32_144
  let c12_i32 : BitVec 32 := 12#32
  let v243 : BitVec 32 := Scalar.addi v242 c12_i32
  let c8_i32_148 : BitVec 32 := 8#32
  let v248 : BitVec 32 := Scalar.muli v243 c8_i32_148
  v248
def k0_off2119 (i : grid0.Coords) : Fin 1 → Nat :=
  let c1_i32_145 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v244 : BitVec 32 := Scalar.subi c1_i32_145 v9
  ![v244.toNat]
def k0_off2120 (i : grid0.Coords) : Fin 3 → Nat :=
  let c1_i32_145 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v244 : BitVec 32 := Scalar.subi c1_i32_145 v9
  let arg1 : BitVec 32 := BitVec.ofNat 32 (i 1).val
  let c2_i32_142 : BitVec 32 := 2#32
  let v240 : BitVec 32 := Scalar.muli arg1 c2_i32_142
  let c0_i32_143 : BitVec 32 := 0#32
  let v241 : BitVec 32 := Scalar.addi v240 c0_i32_143
  let c256_i32_144 : BitVec 32 := 256#32
  let v242 : BitVec 32 := Scalar.muli v241 c256_i32_144
  let c12_i32 : BitVec 32 := 12#32
  let v243 : BitVec 32 := Scalar.addi v242 c12_i32
  let c8_i32_148 : BitVec 32 := 8#32
  let v248 : BitVec 32 := Scalar.muli v243 c8_i32_148
  let v249 : BitVec 32 := v248
  let c0_i32_149 : BitVec 32 := 0#32
  ![v244.toNat, v249.toNat, 0]
def k0_off2121 (v246 : BitVec 32) : Fin 2 → Nat :=
  let v247 : BitVec 32 := v246
  let c0_i32_150 : BitVec 32 := 0#32
  ![v247.toNat, 0]

def k0_chk526 (i : grid0.Coords) (v246 : BitVec 32) : Prop :=
  (∀ (k0_h3 : k0_cond3 i = 1#1), 8 ∣ (k0_mult1051 v246).toNat) ∧
  (∀ (k0_h3 : k0_cond3 i = 1#1), ∀ a, (k0_off2121 v246) a + S8x128.size a ≤ S131072x128.size a)
theorem k0_mult1051_dvd : ∀ (i : grid0.Coords) (v246 : BitVec 32) (k0_hw526 : k0_chk526 i v246), ∀ (k0_h3 : k0_cond3 i = 1#1), 8 ∣ (k0_mult1051 v246).toNat := fun i v246 k0_hw526 k0_h3 => k0_hw526.1 k0_h3
theorem k0_off2121_inb : ∀ (i : grid0.Coords) (v246 : BitVec 32) (k0_hw526 : k0_chk526 i v246), ∀ (k0_h3 : k0_cond3 i = 1#1), ∀ a, (k0_off2121 v246) a + S8x128.size a ≤ S131072x128.size a := fun i v246 k0_hw526 k0_h3 => k0_hw526.2 k0_h3

def k0_off2122 (i : grid0.Coords) : Fin 3 → Nat :=
  let c0_155 : Index := 0#32
  let c0_156 : Index := 0#32
  let arg1 : BitVec 32 := BitVec.ofNat 32 (i 1).val
  let c2_i32_151 : BitVec 32 := 2#32
  let v255 : BitVec 32 := Scalar.muli arg1 c2_i32_151
  let c0_i32_152 : BitVec 32 := 0#32
  let v256 : BitVec 32 := Scalar.addi v255 c0_i32_152
  let c256_i32_153 : BitVec 32 := 256#32
  let v257 : BitVec 32 := Scalar.muli v256 c256_i32_153
  let c13_i32 : BitVec 32 := 13#32
  let v258 : BitVec 32 := Scalar.addi v257 c13_i32
  let v260 : Index := Scalar.indexCast v258
  ![0, 0, v260.toNat]
def k0_mult1053 (v261 : BitVec 32) : BitVec 32 :=
  v261

def k0_mult1054 (i : grid0.Coords) : BitVec 32 :=
  let arg1 : BitVec 32 := BitVec.ofNat 32 (i 1).val
  let c2_i32_151 : BitVec 32 := 2#32
  let v255 : BitVec 32 := Scalar.muli arg1 c2_i32_151
  let c0_i32_152 : BitVec 32 := 0#32
  let v256 : BitVec 32 := Scalar.addi v255 c0_i32_152
  let c256_i32_153 : BitVec 32 := 256#32
  let v257 : BitVec 32 := Scalar.muli v256 c256_i32_153
  let c13_i32 : BitVec 32 := 13#32
  let v258 : BitVec 32 := Scalar.addi v257 c13_i32
  let c8_i32_157 : BitVec 32 := 8#32
  let v263 : BitVec 32 := Scalar.muli v258 c8_i32_157
  v263
def k0_off2123 (i : grid0.Coords) : Fin 1 → Nat :=
  let c1_i32_154 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v259 : BitVec 32 := Scalar.subi c1_i32_154 v9
  ![v259.toNat]
def k0_off2124 (i : grid0.Coords) : Fin 3 → Nat :=
  let c1_i32_154 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v259 : BitVec 32 := Scalar.subi c1_i32_154 v9
  let arg1 : BitVec 32 := BitVec.ofNat 32 (i 1).val
  let c2_i32_151 : BitVec 32 := 2#32
  let v255 : BitVec 32 := Scalar.muli arg1 c2_i32_151
  let c0_i32_152 : BitVec 32 := 0#32
  let v256 : BitVec 32 := Scalar.addi v255 c0_i32_152
  let c256_i32_153 : BitVec 32 := 256#32
  let v257 : BitVec 32 := Scalar.muli v256 c256_i32_153
  let c13_i32 : BitVec 32 := 13#32
  let v258 : BitVec 32 := Scalar.addi v257 c13_i32
  let c8_i32_157 : BitVec 32 := 8#32
  let v263 : BitVec 32 := Scalar.muli v258 c8_i32_157
  let v264 : BitVec 32 := v263
  let c0_i32_158 : BitVec 32 := 0#32
  ![v259.toNat, v264.toNat, 0]
def k0_off2125 (v261 : BitVec 32) : Fin 2 → Nat :=
  let v262 : BitVec 32 := v261
  let c0_i32_159 : BitVec 32 := 0#32
  ![v262.toNat, 0]

def k0_chk527 (i : grid0.Coords) (v261 : BitVec 32) : Prop :=
  (∀ (k0_h3 : k0_cond3 i = 1#1), 8 ∣ (k0_mult1053 v261).toNat) ∧
  (∀ (k0_h3 : k0_cond3 i = 1#1), ∀ a, (k0_off2125 v261) a + S8x128.size a ≤ S131072x128.size a)
theorem k0_mult1053_dvd : ∀ (i : grid0.Coords) (v261 : BitVec 32) (k0_hw527 : k0_chk527 i v261), ∀ (k0_h3 : k0_cond3 i = 1#1), 8 ∣ (k0_mult1053 v261).toNat := fun i v261 k0_hw527 k0_h3 => k0_hw527.1 k0_h3
theorem k0_off2125_inb : ∀ (i : grid0.Coords) (v261 : BitVec 32) (k0_hw527 : k0_chk527 i v261), ∀ (k0_h3 : k0_cond3 i = 1#1), ∀ a, (k0_off2125 v261) a + S8x128.size a ≤ S131072x128.size a := fun i v261 k0_hw527 k0_h3 => k0_hw527.2 k0_h3

def k0_off2126 (i : grid0.Coords) : Fin 3 → Nat :=
  let c0_164 : Index := 0#32
  let c0_165 : Index := 0#32
  let arg1 : BitVec 32 := BitVec.ofNat 32 (i 1).val
  let c2_i32_160 : BitVec 32 := 2#32
  let v270 : BitVec 32 := Scalar.muli arg1 c2_i32_160
  let c0_i32_161 : BitVec 32 := 0#32
  let v271 : BitVec 32 := Scalar.addi v270 c0_i32_161
  let c256_i32_162 : BitVec 32 := 256#32
  let v272 : BitVec 32 := Scalar.muli v271 c256_i32_162
  let c14_i32 : BitVec 32 := 14#32
  let v273 : BitVec 32 := Scalar.addi v272 c14_i32
  let v275 : Index := Scalar.indexCast v273
  ![0, 0, v275.toNat]
def k0_mult1055 (v276 : BitVec 32) : BitVec 32 :=
  v276

def k0_mult1056 (i : grid0.Coords) : BitVec 32 :=
  let arg1 : BitVec 32 := BitVec.ofNat 32 (i 1).val
  let c2_i32_160 : BitVec 32 := 2#32
  let v270 : BitVec 32 := Scalar.muli arg1 c2_i32_160
  let c0_i32_161 : BitVec 32 := 0#32
  let v271 : BitVec 32 := Scalar.addi v270 c0_i32_161
  let c256_i32_162 : BitVec 32 := 256#32
  let v272 : BitVec 32 := Scalar.muli v271 c256_i32_162
  let c14_i32 : BitVec 32 := 14#32
  let v273 : BitVec 32 := Scalar.addi v272 c14_i32
  let c8_i32_166 : BitVec 32 := 8#32
  let v278 : BitVec 32 := Scalar.muli v273 c8_i32_166
  v278
def k0_off2127 (i : grid0.Coords) : Fin 1 → Nat :=
  let c1_i32_163 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v274 : BitVec 32 := Scalar.subi c1_i32_163 v9
  ![v274.toNat]
def k0_off2128 (i : grid0.Coords) : Fin 3 → Nat :=
  let c1_i32_163 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v274 : BitVec 32 := Scalar.subi c1_i32_163 v9
  let arg1 : BitVec 32 := BitVec.ofNat 32 (i 1).val
  let c2_i32_160 : BitVec 32 := 2#32
  let v270 : BitVec 32 := Scalar.muli arg1 c2_i32_160
  let c0_i32_161 : BitVec 32 := 0#32
  let v271 : BitVec 32 := Scalar.addi v270 c0_i32_161
  let c256_i32_162 : BitVec 32 := 256#32
  let v272 : BitVec 32 := Scalar.muli v271 c256_i32_162
  let c14_i32 : BitVec 32 := 14#32
  let v273 : BitVec 32 := Scalar.addi v272 c14_i32
  let c8_i32_166 : BitVec 32 := 8#32
  let v278 : BitVec 32 := Scalar.muli v273 c8_i32_166
  let v279 : BitVec 32 := v278
  let c0_i32_167 : BitVec 32 := 0#32
  ![v274.toNat, v279.toNat, 0]
def k0_off2129 (v276 : BitVec 32) : Fin 2 → Nat :=
  let v277 : BitVec 32 := v276
  let c0_i32_168 : BitVec 32 := 0#32
  ![v277.toNat, 0]

def k0_chk528 (i : grid0.Coords) (v276 : BitVec 32) : Prop :=
  (∀ (k0_h3 : k0_cond3 i = 1#1), 8 ∣ (k0_mult1055 v276).toNat) ∧
  (∀ (k0_h3 : k0_cond3 i = 1#1), ∀ a, (k0_off2129 v276) a + S8x128.size a ≤ S131072x128.size a)
theorem k0_mult1055_dvd : ∀ (i : grid0.Coords) (v276 : BitVec 32) (k0_hw528 : k0_chk528 i v276), ∀ (k0_h3 : k0_cond3 i = 1#1), 8 ∣ (k0_mult1055 v276).toNat := fun i v276 k0_hw528 k0_h3 => k0_hw528.1 k0_h3
theorem k0_off2129_inb : ∀ (i : grid0.Coords) (v276 : BitVec 32) (k0_hw528 : k0_chk528 i v276), ∀ (k0_h3 : k0_cond3 i = 1#1), ∀ a, (k0_off2129 v276) a + S8x128.size a ≤ S131072x128.size a := fun i v276 k0_hw528 k0_h3 => k0_hw528.2 k0_h3

def k0_off2130 (i : grid0.Coords) : Fin 3 → Nat :=
  let c0_174 : Index := 0#32
  let c0_175 : Index := 0#32
  let arg1 : BitVec 32 := BitVec.ofNat 32 (i 1).val
  let c2_i32_169 : BitVec 32 := 2#32
  let v285 : BitVec 32 := Scalar.muli arg1 c2_i32_169
  let c0_i32_170 : BitVec 32 := 0#32
  let v286 : BitVec 32 := Scalar.addi v285 c0_i32_170
  let c256_i32_171 : BitVec 32 := 256#32
  let v287 : BitVec 32 := Scalar.muli v286 c256_i32_171
  let c15_i32_172 : BitVec 32 := 15#32
  let v288 : BitVec 32 := Scalar.addi v287 c15_i32_172
  let v290 : Index := Scalar.indexCast v288
  ![0, 0, v290.toNat]
def k0_mult1057 (v291 : BitVec 32) : BitVec 32 :=
  v291

def k0_mult1058 (i : grid0.Coords) : BitVec 32 :=
  let arg1 : BitVec 32 := BitVec.ofNat 32 (i 1).val
  let c2_i32_169 : BitVec 32 := 2#32
  let v285 : BitVec 32 := Scalar.muli arg1 c2_i32_169
  let c0_i32_170 : BitVec 32 := 0#32
  let v286 : BitVec 32 := Scalar.addi v285 c0_i32_170
  let c256_i32_171 : BitVec 32 := 256#32
  let v287 : BitVec 32 := Scalar.muli v286 c256_i32_171
  let c15_i32_172 : BitVec 32 := 15#32
  let v288 : BitVec 32 := Scalar.addi v287 c15_i32_172
  let c8_i32_176 : BitVec 32 := 8#32
  let v293 : BitVec 32 := Scalar.muli v288 c8_i32_176
  v293
def k0_off2131 (i : grid0.Coords) : Fin 1 → Nat :=
  let c1_i32_173 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v289 : BitVec 32 := Scalar.subi c1_i32_173 v9
  ![v289.toNat]
def k0_off2132 (i : grid0.Coords) : Fin 3 → Nat :=
  let c1_i32_173 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v289 : BitVec 32 := Scalar.subi c1_i32_173 v9
  let arg1 : BitVec 32 := BitVec.ofNat 32 (i 1).val
  let c2_i32_169 : BitVec 32 := 2#32
  let v285 : BitVec 32 := Scalar.muli arg1 c2_i32_169
  let c0_i32_170 : BitVec 32 := 0#32
  let v286 : BitVec 32 := Scalar.addi v285 c0_i32_170
  let c256_i32_171 : BitVec 32 := 256#32
  let v287 : BitVec 32 := Scalar.muli v286 c256_i32_171
  let c15_i32_172 : BitVec 32 := 15#32
  let v288 : BitVec 32 := Scalar.addi v287 c15_i32_172
  let c8_i32_176 : BitVec 32 := 8#32
  let v293 : BitVec 32 := Scalar.muli v288 c8_i32_176
  let v294 : BitVec 32 := v293
  let c0_i32_177 : BitVec 32 := 0#32
  ![v289.toNat, v294.toNat, 0]
def k0_off2133 (v291 : BitVec 32) : Fin 2 → Nat :=
  let v292 : BitVec 32 := v291
  let c0_i32_178 : BitVec 32 := 0#32
  ![v292.toNat, 0]

def k0_chk529 (i : grid0.Coords) (v291 : BitVec 32) : Prop :=
  (∀ (k0_h3 : k0_cond3 i = 1#1), 8 ∣ (k0_mult1057 v291).toNat) ∧
  (∀ (k0_h3 : k0_cond3 i = 1#1), ∀ a, (k0_off2133 v291) a + S8x128.size a ≤ S131072x128.size a)
theorem k0_mult1057_dvd : ∀ (i : grid0.Coords) (v291 : BitVec 32) (k0_hw529 : k0_chk529 i v291), ∀ (k0_h3 : k0_cond3 i = 1#1), 8 ∣ (k0_mult1057 v291).toNat := fun i v291 k0_hw529 k0_h3 => k0_hw529.1 k0_h3
theorem k0_off2133_inb : ∀ (i : grid0.Coords) (v291 : BitVec 32) (k0_hw529 : k0_chk529 i v291), ∀ (k0_h3 : k0_cond3 i = 1#1), ∀ a, (k0_off2133 v291) a + S8x128.size a ≤ S131072x128.size a := fun i v291 k0_hw529 k0_h3 => k0_hw529.2 k0_h3

def k0_off2134 (i : grid0.Coords) : Fin 3 → Nat :=
  let c0_183 : Index := 0#32
  let c0_184 : Index := 0#32
  let arg1 : BitVec 32 := BitVec.ofNat 32 (i 1).val
  let c2_i32_179 : BitVec 32 := 2#32
  let v300 : BitVec 32 := Scalar.muli arg1 c2_i32_179
  let c0_i32_180 : BitVec 32 := 0#32
  let v301 : BitVec 32 := Scalar.addi v300 c0_i32_180
  let c256_i32_181 : BitVec 32 := 256#32
  let v302 : BitVec 32 := Scalar.muli v301 c256_i32_181
  let c16_i32 : BitVec 32 := 16#32
  let v303 : BitVec 32 := Scalar.addi v302 c16_i32
  let v305 : Index := Scalar.indexCast v303
  ![0, 0, v305.toNat]
def k0_mult1059 (v306 : BitVec 32) : BitVec 32 :=
  v306

def k0_mult1060 (i : grid0.Coords) : BitVec 32 :=
  let arg1 : BitVec 32 := BitVec.ofNat 32 (i 1).val
  let c2_i32_179 : BitVec 32 := 2#32
  let v300 : BitVec 32 := Scalar.muli arg1 c2_i32_179
  let c0_i32_180 : BitVec 32 := 0#32
  let v301 : BitVec 32 := Scalar.addi v300 c0_i32_180
  let c256_i32_181 : BitVec 32 := 256#32
  let v302 : BitVec 32 := Scalar.muli v301 c256_i32_181
  let c16_i32 : BitVec 32 := 16#32
  let v303 : BitVec 32 := Scalar.addi v302 c16_i32
  let c8_i32_185 : BitVec 32 := 8#32
  let v308 : BitVec 32 := Scalar.muli v303 c8_i32_185
  v308
def k0_off2135 (i : grid0.Coords) : Fin 1 → Nat :=
  let c1_i32_182 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v304 : BitVec 32 := Scalar.subi c1_i32_182 v9
  ![v304.toNat]
def k0_off2136 (i : grid0.Coords) : Fin 3 → Nat :=
  let c1_i32_182 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v304 : BitVec 32 := Scalar.subi c1_i32_182 v9
  let arg1 : BitVec 32 := BitVec.ofNat 32 (i 1).val
  let c2_i32_179 : BitVec 32 := 2#32
  let v300 : BitVec 32 := Scalar.muli arg1 c2_i32_179
  let c0_i32_180 : BitVec 32 := 0#32
  let v301 : BitVec 32 := Scalar.addi v300 c0_i32_180
  let c256_i32_181 : BitVec 32 := 256#32
  let v302 : BitVec 32 := Scalar.muli v301 c256_i32_181
  let c16_i32 : BitVec 32 := 16#32
  let v303 : BitVec 32 := Scalar.addi v302 c16_i32
  let c8_i32_185 : BitVec 32 := 8#32
  let v308 : BitVec 32 := Scalar.muli v303 c8_i32_185
  let v309 : BitVec 32 := v308
  let c0_i32_186 : BitVec 32 := 0#32
  ![v304.toNat, v309.toNat, 0]
def k0_off2137 (v306 : BitVec 32) : Fin 2 → Nat :=
  let v307 : BitVec 32 := v306
  let c0_i32_187 : BitVec 32 := 0#32
  ![v307.toNat, 0]

def k0_chk530 (i : grid0.Coords) (v306 : BitVec 32) : Prop :=
  (∀ (k0_h3 : k0_cond3 i = 1#1), 8 ∣ (k0_mult1059 v306).toNat) ∧
  (∀ (k0_h3 : k0_cond3 i = 1#1), ∀ a, (k0_off2137 v306) a + S8x128.size a ≤ S131072x128.size a)
theorem k0_mult1059_dvd : ∀ (i : grid0.Coords) (v306 : BitVec 32) (k0_hw530 : k0_chk530 i v306), ∀ (k0_h3 : k0_cond3 i = 1#1), 8 ∣ (k0_mult1059 v306).toNat := fun i v306 k0_hw530 k0_h3 => k0_hw530.1 k0_h3
theorem k0_off2137_inb : ∀ (i : grid0.Coords) (v306 : BitVec 32) (k0_hw530 : k0_chk530 i v306), ∀ (k0_h3 : k0_cond3 i = 1#1), ∀ a, (k0_off2137 v306) a + S8x128.size a ≤ S131072x128.size a := fun i v306 k0_hw530 k0_h3 => k0_hw530.2 k0_h3

def k0_off2138 (i : grid0.Coords) : Fin 3 → Nat :=
  let c0_192 : Index := 0#32
  let c0_193 : Index := 0#32
  let arg1 : BitVec 32 := BitVec.ofNat 32 (i 1).val
  let c2_i32_188 : BitVec 32 := 2#32
  let v315 : BitVec 32 := Scalar.muli arg1 c2_i32_188
  let c0_i32_189 : BitVec 32 := 0#32
  let v316 : BitVec 32 := Scalar.addi v315 c0_i32_189
  let c256_i32_190 : BitVec 32 := 256#32
  let v317 : BitVec 32 := Scalar.muli v316 c256_i32_190
  let c17_i32 : BitVec 32 := 17#32
  let v318 : BitVec 32 := Scalar.addi v317 c17_i32
  let v320 : Index := Scalar.indexCast v318
  ![0, 0, v320.toNat]
def k0_mult1061 (v321 : BitVec 32) : BitVec 32 :=
  v321

def k0_mult1062 (i : grid0.Coords) : BitVec 32 :=
  let arg1 : BitVec 32 := BitVec.ofNat 32 (i 1).val
  let c2_i32_188 : BitVec 32 := 2#32
  let v315 : BitVec 32 := Scalar.muli arg1 c2_i32_188
  let c0_i32_189 : BitVec 32 := 0#32
  let v316 : BitVec 32 := Scalar.addi v315 c0_i32_189
  let c256_i32_190 : BitVec 32 := 256#32
  let v317 : BitVec 32 := Scalar.muli v316 c256_i32_190
  let c17_i32 : BitVec 32 := 17#32
  let v318 : BitVec 32 := Scalar.addi v317 c17_i32
  let c8_i32_194 : BitVec 32 := 8#32
  let v323 : BitVec 32 := Scalar.muli v318 c8_i32_194
  v323
def k0_off2139 (i : grid0.Coords) : Fin 1 → Nat :=
  let c1_i32_191 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_191 v9
  ![v319.toNat]
def k0_off2140 (i : grid0.Coords) : Fin 3 → Nat :=
  let c1_i32_191 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v319 : BitVec 32 := Scalar.subi c1_i32_191 v9
  let arg1 : BitVec 32 := BitVec.ofNat 32 (i 1).val
  let c2_i32_188 : BitVec 32 := 2#32
  let v315 : BitVec 32 := Scalar.muli arg1 c2_i32_188
  let c0_i32_189 : BitVec 32 := 0#32
  let v316 : BitVec 32 := Scalar.addi v315 c0_i32_189
  let c256_i32_190 : BitVec 32 := 256#32
  let v317 : BitVec 32 := Scalar.muli v316 c256_i32_190
  let c17_i32 : BitVec 32 := 17#32
  let v318 : BitVec 32 := Scalar.addi v317 c17_i32
  let c8_i32_194 : BitVec 32 := 8#32
  let v323 : BitVec 32 := Scalar.muli v318 c8_i32_194
  let v324 : BitVec 32 := v323
  let c0_i32_195 : BitVec 32 := 0#32
  ![v319.toNat, v324.toNat, 0]
def k0_off2141 (v321 : BitVec 32) : Fin 2 → Nat :=
  let v322 : BitVec 32 := v321
  let c0_i32_196 : BitVec 32 := 0#32
  ![v322.toNat, 0]

def k0_chk531 (i : grid0.Coords) (v321 : BitVec 32) : Prop :=
  (∀ (k0_h3 : k0_cond3 i = 1#1), 8 ∣ (k0_mult1061 v321).toNat) ∧
  (∀ (k0_h3 : k0_cond3 i = 1#1), ∀ a, (k0_off2141 v321) a + S8x128.size a ≤ S131072x128.size a)
theorem k0_mult1061_dvd : ∀ (i : grid0.Coords) (v321 : BitVec 32) (k0_hw531 : k0_chk531 i v321), ∀ (k0_h3 : k0_cond3 i = 1#1), 8 ∣ (k0_mult1061 v321).toNat := fun i v321 k0_hw531 k0_h3 => k0_hw531.1 k0_h3
theorem k0_off2141_inb : ∀ (i : grid0.Coords) (v321 : BitVec 32) (k0_hw531 : k0_chk531 i v321), ∀ (k0_h3 : k0_cond3 i = 1#1), ∀ a, (k0_off2141 v321) a + S8x128.size a ≤ S131072x128.size a := fun i v321 k0_hw531 k0_h3 => k0_hw531.2 k0_h3

def k0_off2142 (i : grid0.Coords) : Fin 3 → Nat :=
  let c0_201 : Index := 0#32
  let c0_202 : Index := 0#32
  let arg1 : BitVec 32 := BitVec.ofNat 32 (i 1).val
  let c2_i32_197 : BitVec 32 := 2#32
  let v330 : BitVec 32 := Scalar.muli arg1 c2_i32_197
  let c0_i32_198 : BitVec 32 := 0#32
  let v331 : BitVec 32 := Scalar.addi v330 c0_i32_198
  let c256_i32_199 : BitVec 32 := 256#32
  let v332 : BitVec 32 := Scalar.muli v331 c256_i32_199
  let c18_i32 : BitVec 32 := 18#32
  let v333 : BitVec 32 := Scalar.addi v332 c18_i32
  let v335 : Index := Scalar.indexCast v333
  ![0, 0, v335.toNat]
def k0_mult1063 (v336 : BitVec 32) : BitVec 32 :=
  v336

def k0_mult1064 (i : grid0.Coords) : BitVec 32 :=
  let arg1 : BitVec 32 := BitVec.ofNat 32 (i 1).val
  let c2_i32_197 : BitVec 32 := 2#32
  let v330 : BitVec 32 := Scalar.muli arg1 c2_i32_197
  let c0_i32_198 : BitVec 32 := 0#32
  let v331 : BitVec 32 := Scalar.addi v330 c0_i32_198
  let c256_i32_199 : BitVec 32 := 256#32
  let v332 : BitVec 32 := Scalar.muli v331 c256_i32_199
  let c18_i32 : BitVec 32 := 18#32
  let v333 : BitVec 32 := Scalar.addi v332 c18_i32
  let c8_i32_203 : BitVec 32 := 8#32
  let v338 : BitVec 32 := Scalar.muli v333 c8_i32_203
  v338
def k0_off2143 (i : grid0.Coords) : Fin 1 → Nat :=
  let c1_i32_200 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v334 : BitVec 32 := Scalar.subi c1_i32_200 v9
  ![v334.toNat]
def k0_off2144 (i : grid0.Coords) : Fin 3 → Nat :=
  let c1_i32_200 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v334 : BitVec 32 := Scalar.subi c1_i32_200 v9
  let arg1 : BitVec 32 := BitVec.ofNat 32 (i 1).val
  let c2_i32_197 : BitVec 32 := 2#32
  let v330 : BitVec 32 := Scalar.muli arg1 c2_i32_197
  let c0_i32_198 : BitVec 32 := 0#32
  let v331 : BitVec 32 := Scalar.addi v330 c0_i32_198
  let c256_i32_199 : BitVec 32 := 256#32
  let v332 : BitVec 32 := Scalar.muli v331 c256_i32_199
  let c18_i32 : BitVec 32 := 18#32
  let v333 : BitVec 32 := Scalar.addi v332 c18_i32
  let c8_i32_203 : BitVec 32 := 8#32
  let v338 : BitVec 32 := Scalar.muli v333 c8_i32_203
  let v339 : BitVec 32 := v338
  let c0_i32_204 : BitVec 32 := 0#32
  ![v334.toNat, v339.toNat, 0]
def k0_off2145 (v336 : BitVec 32) : Fin 2 → Nat :=
  let v337 : BitVec 32 := v336
  let c0_i32_205 : BitVec 32 := 0#32
  ![v337.toNat, 0]

def k0_chk532 (i : grid0.Coords) (v336 : BitVec 32) : Prop :=
  (∀ (k0_h3 : k0_cond3 i = 1#1), 8 ∣ (k0_mult1063 v336).toNat) ∧
  (∀ (k0_h3 : k0_cond3 i = 1#1), ∀ a, (k0_off2145 v336) a + S8x128.size a ≤ S131072x128.size a)
theorem k0_mult1063_dvd : ∀ (i : grid0.Coords) (v336 : BitVec 32) (k0_hw532 : k0_chk532 i v336), ∀ (k0_h3 : k0_cond3 i = 1#1), 8 ∣ (k0_mult1063 v336).toNat := fun i v336 k0_hw532 k0_h3 => k0_hw532.1 k0_h3
theorem k0_off2145_inb : ∀ (i : grid0.Coords) (v336 : BitVec 32) (k0_hw532 : k0_chk532 i v336), ∀ (k0_h3 : k0_cond3 i = 1#1), ∀ a, (k0_off2145 v336) a + S8x128.size a ≤ S131072x128.size a := fun i v336 k0_hw532 k0_h3 => k0_hw532.2 k0_h3

def k0_off2146 (i : grid0.Coords) : Fin 3 → Nat :=
  let c0_210 : Index := 0#32
  let c0_211 : Index := 0#32
  let arg1 : BitVec 32 := BitVec.ofNat 32 (i 1).val
  let c2_i32_206 : BitVec 32 := 2#32
  let v345 : BitVec 32 := Scalar.muli arg1 c2_i32_206
  let c0_i32_207 : BitVec 32 := 0#32
  let v346 : BitVec 32 := Scalar.addi v345 c0_i32_207
  let c256_i32_208 : BitVec 32 := 256#32
  let v347 : BitVec 32 := Scalar.muli v346 c256_i32_208
  let c19_i32 : BitVec 32 := 19#32
  let v348 : BitVec 32 := Scalar.addi v347 c19_i32
  let v350 : Index := Scalar.indexCast v348
  ![0, 0, v350.toNat]
def k0_mult1065 (v351 : BitVec 32) : BitVec 32 :=
  v351

def k0_mult1066 (i : grid0.Coords) : BitVec 32 :=
  let arg1 : BitVec 32 := BitVec.ofNat 32 (i 1).val
  let c2_i32_206 : BitVec 32 := 2#32
  let v345 : BitVec 32 := Scalar.muli arg1 c2_i32_206
  let c0_i32_207 : BitVec 32 := 0#32
  let v346 : BitVec 32 := Scalar.addi v345 c0_i32_207
  let c256_i32_208 : BitVec 32 := 256#32
  let v347 : BitVec 32 := Scalar.muli v346 c256_i32_208
  let c19_i32 : BitVec 32 := 19#32
  let v348 : BitVec 32 := Scalar.addi v347 c19_i32
  let c8_i32_212 : BitVec 32 := 8#32
  let v353 : BitVec 32 := Scalar.muli v348 c8_i32_212
  v353
def k0_off2147 (i : grid0.Coords) : Fin 1 → Nat :=
  let c1_i32_209 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v349 : BitVec 32 := Scalar.subi c1_i32_209 v9
  ![v349.toNat]
def k0_off2148 (i : grid0.Coords) : Fin 3 → Nat :=
  let c1_i32_209 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v349 : BitVec 32 := Scalar.subi c1_i32_209 v9
  let arg1 : BitVec 32 := BitVec.ofNat 32 (i 1).val
  let c2_i32_206 : BitVec 32 := 2#32
  let v345 : BitVec 32 := Scalar.muli arg1 c2_i32_206
  let c0_i32_207 : BitVec 32 := 0#32
  let v346 : BitVec 32 := Scalar.addi v345 c0_i32_207
  let c256_i32_208 : BitVec 32 := 256#32
  let v347 : BitVec 32 := Scalar.muli v346 c256_i32_208
  let c19_i32 : BitVec 32 := 19#32
  let v348 : BitVec 32 := Scalar.addi v347 c19_i32
  let c8_i32_212 : BitVec 32 := 8#32
  let v353 : BitVec 32 := Scalar.muli v348 c8_i32_212
  let v354 : BitVec 32 := v353
  let c0_i32_213 : BitVec 32 := 0#32
  ![v349.toNat, v354.toNat, 0]
def k0_off2149 (v351 : BitVec 32) : Fin 2 → Nat :=
  let v352 : BitVec 32 := v351
  let c0_i32_214 : BitVec 32 := 0#32
  ![v352.toNat, 0]

def k0_chk533 (i : grid0.Coords) (v351 : BitVec 32) : Prop :=
  (∀ (k0_h3 : k0_cond3 i = 1#1), 8 ∣ (k0_mult1065 v351).toNat) ∧
  (∀ (k0_h3 : k0_cond3 i = 1#1), ∀ a, (k0_off2149 v351) a + S8x128.size a ≤ S131072x128.size a)
theorem k0_mult1065_dvd : ∀ (i : grid0.Coords) (v351 : BitVec 32) (k0_hw533 : k0_chk533 i v351), ∀ (k0_h3 : k0_cond3 i = 1#1), 8 ∣ (k0_mult1065 v351).toNat := fun i v351 k0_hw533 k0_h3 => k0_hw533.1 k0_h3
theorem k0_off2149_inb : ∀ (i : grid0.Coords) (v351 : BitVec 32) (k0_hw533 : k0_chk533 i v351), ∀ (k0_h3 : k0_cond3 i = 1#1), ∀ a, (k0_off2149 v351) a + S8x128.size a ≤ S131072x128.size a := fun i v351 k0_hw533 k0_h3 => k0_hw533.2 k0_h3

def k0_off2150 (i : grid0.Coords) : Fin 3 → Nat :=
  let c0_219 : Index := 0#32
  let c0_220 : Index := 0#32
  let arg1 : BitVec 32 := BitVec.ofNat 32 (i 1).val
  let c2_i32_215 : BitVec 32 := 2#32
  let v360 : BitVec 32 := Scalar.muli arg1 c2_i32_215
  let c0_i32_216 : BitVec 32 := 0#32
  let v361 : BitVec 32 := Scalar.addi v360 c0_i32_216
  let c256_i32_217 : BitVec 32 := 256#32
  let v362 : BitVec 32 := Scalar.muli v361 c256_i32_217
  let c20_i32 : BitVec 32 := 20#32
  let v363 : BitVec 32 := Scalar.addi v362 c20_i32
  let v365 : Index := Scalar.indexCast v363
  ![0, 0, v365.toNat]
def k0_mult1067 (v366 : BitVec 32) : BitVec 32 :=
  v366

def k0_mult1068 (i : grid0.Coords) : BitVec 32 :=
  let arg1 : BitVec 32 := BitVec.ofNat 32 (i 1).val
  let c2_i32_215 : BitVec 32 := 2#32
  let v360 : BitVec 32 := Scalar.muli arg1 c2_i32_215
  let c0_i32_216 : BitVec 32 := 0#32
  let v361 : BitVec 32 := Scalar.addi v360 c0_i32_216
  let c256_i32_217 : BitVec 32 := 256#32
  let v362 : BitVec 32 := Scalar.muli v361 c256_i32_217
  let c20_i32 : BitVec 32 := 20#32
  let v363 : BitVec 32 := Scalar.addi v362 c20_i32
  let c8_i32_221 : BitVec 32 := 8#32
  let v368 : BitVec 32 := Scalar.muli v363 c8_i32_221
  v368
def k0_off2151 (i : grid0.Coords) : Fin 1 → Nat :=
  let c1_i32_218 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_218 v9
  ![v364.toNat]
def k0_off2152 (i : grid0.Coords) : Fin 3 → Nat :=
  let c1_i32_218 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v364 : BitVec 32 := Scalar.subi c1_i32_218 v9
  let arg1 : BitVec 32 := BitVec.ofNat 32 (i 1).val
  let c2_i32_215 : BitVec 32 := 2#32
  let v360 : BitVec 32 := Scalar.muli arg1 c2_i32_215
  let c0_i32_216 : BitVec 32 := 0#32
  let v361 : BitVec 32 := Scalar.addi v360 c0_i32_216
  let c256_i32_217 : BitVec 32 := 256#32
  let v362 : BitVec 32 := Scalar.muli v361 c256_i32_217
  let c20_i32 : BitVec 32 := 20#32
  let v363 : BitVec 32 := Scalar.addi v362 c20_i32
  let c8_i32_221 : BitVec 32 := 8#32
  let v368 : BitVec 32 := Scalar.muli v363 c8_i32_221
  let v369 : BitVec 32 := v368
  let c0_i32_222 : BitVec 32 := 0#32
  ![v364.toNat, v369.toNat, 0]
def k0_off2153 (v366 : BitVec 32) : Fin 2 → Nat :=
  let v367 : BitVec 32 := v366
  let c0_i32_223 : BitVec 32 := 0#32
  ![v367.toNat, 0]

def k0_chk534 (i : grid0.Coords) (v366 : BitVec 32) : Prop :=
  (∀ (k0_h3 : k0_cond3 i = 1#1), 8 ∣ (k0_mult1067 v366).toNat) ∧
  (∀ (k0_h3 : k0_cond3 i = 1#1), ∀ a, (k0_off2153 v366) a + S8x128.size a ≤ S131072x128.size a)
theorem k0_mult1067_dvd : ∀ (i : grid0.Coords) (v366 : BitVec 32) (k0_hw534 : k0_chk534 i v366), ∀ (k0_h3 : k0_cond3 i = 1#1), 8 ∣ (k0_mult1067 v366).toNat := fun i v366 k0_hw534 k0_h3 => k0_hw534.1 k0_h3
theorem k0_off2153_inb : ∀ (i : grid0.Coords) (v366 : BitVec 32) (k0_hw534 : k0_chk534 i v366), ∀ (k0_h3 : k0_cond3 i = 1#1), ∀ a, (k0_off2153 v366) a + S8x128.size a ≤ S131072x128.size a := fun i v366 k0_hw534 k0_h3 => k0_hw534.2 k0_h3

def k0_off2154 (i : grid0.Coords) : Fin 3 → Nat :=
  let c0_228 : Index := 0#32
  let c0_229 : Index := 0#32
  let arg1 : BitVec 32 := BitVec.ofNat 32 (i 1).val
  let c2_i32_224 : BitVec 32 := 2#32
  let v375 : BitVec 32 := Scalar.muli arg1 c2_i32_224
  let c0_i32_225 : BitVec 32 := 0#32
  let v376 : BitVec 32 := Scalar.addi v375 c0_i32_225
  let c256_i32_226 : BitVec 32 := 256#32
  let v377 : BitVec 32 := Scalar.muli v376 c256_i32_226
  let c21_i32 : BitVec 32 := 21#32
  let v378 : BitVec 32 := Scalar.addi v377 c21_i32
  let v380 : Index := Scalar.indexCast v378
  ![0, 0, v380.toNat]
def k0_mult1069 (v381 : BitVec 32) : BitVec 32 :=
  v381

def k0_mult1070 (i : grid0.Coords) : BitVec 32 :=
  let arg1 : BitVec 32 := BitVec.ofNat 32 (i 1).val
  let c2_i32_224 : BitVec 32 := 2#32
  let v375 : BitVec 32 := Scalar.muli arg1 c2_i32_224
  let c0_i32_225 : BitVec 32 := 0#32
  let v376 : BitVec 32 := Scalar.addi v375 c0_i32_225
  let c256_i32_226 : BitVec 32 := 256#32
  let v377 : BitVec 32 := Scalar.muli v376 c256_i32_226
  let c21_i32 : BitVec 32 := 21#32
  let v378 : BitVec 32 := Scalar.addi v377 c21_i32
  let c8_i32_230 : BitVec 32 := 8#32
  let v383 : BitVec 32 := Scalar.muli v378 c8_i32_230
  v383
def k0_off2155 (i : grid0.Coords) : Fin 1 → Nat :=
  let c1_i32_227 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v379 : BitVec 32 := Scalar.subi c1_i32_227 v9
  ![v379.toNat]
def k0_off2156 (i : grid0.Coords) : Fin 3 → Nat :=
  let c1_i32_227 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v379 : BitVec 32 := Scalar.subi c1_i32_227 v9
  let arg1 : BitVec 32 := BitVec.ofNat 32 (i 1).val
  let c2_i32_224 : BitVec 32 := 2#32
  let v375 : BitVec 32 := Scalar.muli arg1 c2_i32_224
  let c0_i32_225 : BitVec 32 := 0#32
  let v376 : BitVec 32 := Scalar.addi v375 c0_i32_225
  let c256_i32_226 : BitVec 32 := 256#32
  let v377 : BitVec 32 := Scalar.muli v376 c256_i32_226
  let c21_i32 : BitVec 32 := 21#32
  let v378 : BitVec 32 := Scalar.addi v377 c21_i32
  let c8_i32_230 : BitVec 32 := 8#32
  let v383 : BitVec 32 := Scalar.muli v378 c8_i32_230
  let v384 : BitVec 32 := v383
  let c0_i32_231 : BitVec 32 := 0#32
  ![v379.toNat, v384.toNat, 0]
def k0_off2157 (v381 : BitVec 32) : Fin 2 → Nat :=
  let v382 : BitVec 32 := v381
  let c0_i32_232 : BitVec 32 := 0#32
  ![v382.toNat, 0]

def k0_chk535 (i : grid0.Coords) (v381 : BitVec 32) : Prop :=
  (∀ (k0_h3 : k0_cond3 i = 1#1), 8 ∣ (k0_mult1069 v381).toNat) ∧
  (∀ (k0_h3 : k0_cond3 i = 1#1), ∀ a, (k0_off2157 v381) a + S8x128.size a ≤ S131072x128.size a)
theorem k0_mult1069_dvd : ∀ (i : grid0.Coords) (v381 : BitVec 32) (k0_hw535 : k0_chk535 i v381), ∀ (k0_h3 : k0_cond3 i = 1#1), 8 ∣ (k0_mult1069 v381).toNat := fun i v381 k0_hw535 k0_h3 => k0_hw535.1 k0_h3
theorem k0_off2157_inb : ∀ (i : grid0.Coords) (v381 : BitVec 32) (k0_hw535 : k0_chk535 i v381), ∀ (k0_h3 : k0_cond3 i = 1#1), ∀ a, (k0_off2157 v381) a + S8x128.size a ≤ S131072x128.size a := fun i v381 k0_hw535 k0_h3 => k0_hw535.2 k0_h3

def k0_off2158 (i : grid0.Coords) : Fin 3 → Nat :=
  let c0_237 : Index := 0#32
  let c0_238 : Index := 0#32
  let arg1 : BitVec 32 := BitVec.ofNat 32 (i 1).val
  let c2_i32_233 : BitVec 32 := 2#32
  let v390 : BitVec 32 := Scalar.muli arg1 c2_i32_233
  let c0_i32_234 : BitVec 32 := 0#32
  let v391 : BitVec 32 := Scalar.addi v390 c0_i32_234
  let c256_i32_235 : BitVec 32 := 256#32
  let v392 : BitVec 32 := Scalar.muli v391 c256_i32_235
  let c22_i32 : BitVec 32 := 22#32
  let v393 : BitVec 32 := Scalar.addi v392 c22_i32
  let v395 : Index := Scalar.indexCast v393
  ![0, 0, v395.toNat]
def k0_mult1071 (v396 : BitVec 32) : BitVec 32 :=
  v396

def k0_mult1072 (i : grid0.Coords) : BitVec 32 :=
  let arg1 : BitVec 32 := BitVec.ofNat 32 (i 1).val
  let c2_i32_233 : BitVec 32 := 2#32
  let v390 : BitVec 32 := Scalar.muli arg1 c2_i32_233
  let c0_i32_234 : BitVec 32 := 0#32
  let v391 : BitVec 32 := Scalar.addi v390 c0_i32_234
  let c256_i32_235 : BitVec 32 := 256#32
  let v392 : BitVec 32 := Scalar.muli v391 c256_i32_235
  let c22_i32 : BitVec 32 := 22#32
  let v393 : BitVec 32 := Scalar.addi v392 c22_i32
  let c8_i32_239 : BitVec 32 := 8#32
  let v398 : BitVec 32 := Scalar.muli v393 c8_i32_239
  v398
def k0_off2159 (i : grid0.Coords) : Fin 1 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v394 : BitVec 32 := Scalar.subi c1_i32_236 v9
  ![v394.toNat]
def k0_off2160 (i : grid0.Coords) : Fin 3 → Nat :=
  let c1_i32_236 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v394 : BitVec 32 := Scalar.subi c1_i32_236 v9
  let arg1 : BitVec 32 := BitVec.ofNat 32 (i 1).val
  let c2_i32_233 : BitVec 32 := 2#32
  let v390 : BitVec 32 := Scalar.muli arg1 c2_i32_233
  let c0_i32_234 : BitVec 32 := 0#32
  let v391 : BitVec 32 := Scalar.addi v390 c0_i32_234
  let c256_i32_235 : BitVec 32 := 256#32
  let v392 : BitVec 32 := Scalar.muli v391 c256_i32_235
  let c22_i32 : BitVec 32 := 22#32
  let v393 : BitVec 32 := Scalar.addi v392 c22_i32
  let c8_i32_239 : BitVec 32 := 8#32
  let v398 : BitVec 32 := Scalar.muli v393 c8_i32_239
  let v399 : BitVec 32 := v398
  let c0_i32_240 : BitVec 32 := 0#32
  ![v394.toNat, v399.toNat, 0]
def k0_off2161 (v396 : BitVec 32) : Fin 2 → Nat :=
  let v397 : BitVec 32 := v396
  let c0_i32_241 : BitVec 32 := 0#32
  ![v397.toNat, 0]

def k0_chk536 (i : grid0.Coords) (v396 : BitVec 32) : Prop :=
  (∀ (k0_h3 : k0_cond3 i = 1#1), 8 ∣ (k0_mult1071 v396).toNat) ∧
  (∀ (k0_h3 : k0_cond3 i = 1#1), ∀ a, (k0_off2161 v396) a + S8x128.size a ≤ S131072x128.size a)
theorem k0_mult1071_dvd : ∀ (i : grid0.Coords) (v396 : BitVec 32) (k0_hw536 : k0_chk536 i v396), ∀ (k0_h3 : k0_cond3 i = 1#1), 8 ∣ (k0_mult1071 v396).toNat := fun i v396 k0_hw536 k0_h3 => k0_hw536.1 k0_h3
theorem k0_off2161_inb : ∀ (i : grid0.Coords) (v396 : BitVec 32) (k0_hw536 : k0_chk536 i v396), ∀ (k0_h3 : k0_cond3 i = 1#1), ∀ a, (k0_off2161 v396) a + S8x128.size a ≤ S131072x128.size a := fun i v396 k0_hw536 k0_h3 => k0_hw536.2 k0_h3

def k0_off2162 (i : grid0.Coords) : Fin 3 → Nat :=
  let c0_246 : Index := 0#32
  let c0_247 : Index := 0#32
  let arg1 : BitVec 32 := BitVec.ofNat 32 (i 1).val
  let c2_i32_242 : BitVec 32 := 2#32
  let v405 : BitVec 32 := Scalar.muli arg1 c2_i32_242
  let c0_i32_243 : BitVec 32 := 0#32
  let v406 : BitVec 32 := Scalar.addi v405 c0_i32_243
  let c256_i32_244 : BitVec 32 := 256#32
  let v407 : BitVec 32 := Scalar.muli v406 c256_i32_244
  let c23_i32 : BitVec 32 := 23#32
  let v408 : BitVec 32 := Scalar.addi v407 c23_i32
  let v410 : Index := Scalar.indexCast v408
  ![0, 0, v410.toNat]
def k0_mult1073 (v411 : BitVec 32) : BitVec 32 :=
  v411

def k0_mult1074 (i : grid0.Coords) : BitVec 32 :=
  let arg1 : BitVec 32 := BitVec.ofNat 32 (i 1).val
  let c2_i32_242 : BitVec 32 := 2#32
  let v405 : BitVec 32 := Scalar.muli arg1 c2_i32_242
  let c0_i32_243 : BitVec 32 := 0#32
  let v406 : BitVec 32 := Scalar.addi v405 c0_i32_243
  let c256_i32_244 : BitVec 32 := 256#32
  let v407 : BitVec 32 := Scalar.muli v406 c256_i32_244
  let c23_i32 : BitVec 32 := 23#32
  let v408 : BitVec 32 := Scalar.addi v407 c23_i32
  let c8_i32_248 : BitVec 32 := 8#32
  let v413 : BitVec 32 := Scalar.muli v408 c8_i32_248
  v413
def k0_off2163 (i : grid0.Coords) : Fin 1 → Nat :=
  let c1_i32_245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v409 : BitVec 32 := Scalar.subi c1_i32_245 v9
  ![v409.toNat]
def k0_off2164 (i : grid0.Coords) : Fin 3 → Nat :=
  let c1_i32_245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v409 : BitVec 32 := Scalar.subi c1_i32_245 v9
  let arg1 : BitVec 32 := BitVec.ofNat 32 (i 1).val
  let c2_i32_242 : BitVec 32 := 2#32
  let v405 : BitVec 32 := Scalar.muli arg1 c2_i32_242
  let c0_i32_243 : BitVec 32 := 0#32
  let v406 : BitVec 32 := Scalar.addi v405 c0_i32_243
  let c256_i32_244 : BitVec 32 := 256#32
  let v407 : BitVec 32 := Scalar.muli v406 c256_i32_244
  let c23_i32 : BitVec 32 := 23#32
  let v408 : BitVec 32 := Scalar.addi v407 c23_i32
  let c8_i32_248 : BitVec 32 := 8#32
  let v413 : BitVec 32 := Scalar.muli v408 c8_i32_248
  let v414 : BitVec 32 := v413
  let c0_i32_249 : BitVec 32 := 0#32
  ![v409.toNat, v414.toNat, 0]
def k0_off2165 (v411 : BitVec 32) : Fin 2 → Nat :=
  let v412 : BitVec 32 := v411
  let c0_i32_250 : BitVec 32 := 0#32
  ![v412.toNat, 0]

def k0_chk537 (i : grid0.Coords) (v411 : BitVec 32) : Prop :=
  (∀ (k0_h3 : k0_cond3 i = 1#1), 8 ∣ (k0_mult1073 v411).toNat) ∧
  (∀ (k0_h3 : k0_cond3 i = 1#1), ∀ a, (k0_off2165 v411) a + S8x128.size a ≤ S131072x128.size a)
theorem k0_mult1073_dvd : ∀ (i : grid0.Coords) (v411 : BitVec 32) (k0_hw537 : k0_chk537 i v411), ∀ (k0_h3 : k0_cond3 i = 1#1), 8 ∣ (k0_mult1073 v411).toNat := fun i v411 k0_hw537 k0_h3 => k0_hw537.1 k0_h3
theorem k0_off2165_inb : ∀ (i : grid0.Coords) (v411 : BitVec 32) (k0_hw537 : k0_chk537 i v411), ∀ (k0_h3 : k0_cond3 i = 1#1), ∀ a, (k0_off2165 v411) a + S8x128.size a ≤ S131072x128.size a := fun i v411 k0_hw537 k0_h3 => k0_hw537.2 k0_h3

def k0_off2166 (i : grid0.Coords) : Fin 3 → Nat :=
  let c0_255 : Index := 0#32
  let c0_256 : Index := 0#32
  let arg1 : BitVec 32 := BitVec.ofNat 32 (i 1).val
  let c2_i32_251 : BitVec 32 := 2#32
  let v420 : BitVec 32 := Scalar.muli arg1 c2_i32_251
  let c0_i32_252 : BitVec 32 := 0#32
  let v421 : BitVec 32 := Scalar.addi v420 c0_i32_252
  let c256_i32_253 : BitVec 32 := 256#32
  let v422 : BitVec 32 := Scalar.muli v421 c256_i32_253
  let c24_i32 : BitVec 32 := 24#32
  let v423 : BitVec 32 := Scalar.addi v422 c24_i32
  let v425 : Index := Scalar.indexCast v423
  ![0, 0, v425.toNat]
def k0_mult1075 (v426 : BitVec 32) : BitVec 32 :=
  v426

def k0_mult1076 (i : grid0.Coords) : BitVec 32 :=
  let arg1 : BitVec 32 := BitVec.ofNat 32 (i 1).val
  let c2_i32_251 : BitVec 32 := 2#32
  let v420 : BitVec 32 := Scalar.muli arg1 c2_i32_251
  let c0_i32_252 : BitVec 32 := 0#32
  let v421 : BitVec 32 := Scalar.addi v420 c0_i32_252
  let c256_i32_253 : BitVec 32 := 256#32
  let v422 : BitVec 32 := Scalar.muli v421 c256_i32_253
  let c24_i32 : BitVec 32 := 24#32
  let v423 : BitVec 32 := Scalar.addi v422 c24_i32
  let c8_i32_257 : BitVec 32 := 8#32
  let v428 : BitVec 32 := Scalar.muli v423 c8_i32_257
  v428
def k0_off2167 (i : grid0.Coords) : Fin 1 → Nat :=
  let c1_i32_254 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v424 : BitVec 32 := Scalar.subi c1_i32_254 v9
  ![v424.toNat]
def k0_off2168 (i : grid0.Coords) : Fin 3 → Nat :=
  let c1_i32_254 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v424 : BitVec 32 := Scalar.subi c1_i32_254 v9
  let arg1 : BitVec 32 := BitVec.ofNat 32 (i 1).val
  let c2_i32_251 : BitVec 32 := 2#32
  let v420 : BitVec 32 := Scalar.muli arg1 c2_i32_251
  let c0_i32_252 : BitVec 32 := 0#32
  let v421 : BitVec 32 := Scalar.addi v420 c0_i32_252
  let c256_i32_253 : BitVec 32 := 256#32
  let v422 : BitVec 32 := Scalar.muli v421 c256_i32_253
  let c24_i32 : BitVec 32 := 24#32
  let v423 : BitVec 32 := Scalar.addi v422 c24_i32
  let c8_i32_257 : BitVec 32 := 8#32
  let v428 : BitVec 32 := Scalar.muli v423 c8_i32_257
  let v429 : BitVec 32 := v428
  let c0_i32_258 : BitVec 32 := 0#32
  ![v424.toNat, v429.toNat, 0]
def k0_off2169 (v426 : BitVec 32) : Fin 2 → Nat :=
  let v427 : BitVec 32 := v426
  let c0_i32_259 : BitVec 32 := 0#32
  ![v427.toNat, 0]

def k0_chk538 (i : grid0.Coords) (v426 : BitVec 32) : Prop :=
  (∀ (k0_h3 : k0_cond3 i = 1#1), 8 ∣ (k0_mult1075 v426).toNat) ∧
  (∀ (k0_h3 : k0_cond3 i = 1#1), ∀ a, (k0_off2169 v426) a + S8x128.size a ≤ S131072x128.size a)
theorem k0_mult1075_dvd : ∀ (i : grid0.Coords) (v426 : BitVec 32) (k0_hw538 : k0_chk538 i v426), ∀ (k0_h3 : k0_cond3 i = 1#1), 8 ∣ (k0_mult1075 v426).toNat := fun i v426 k0_hw538 k0_h3 => k0_hw538.1 k0_h3
theorem k0_off2169_inb : ∀ (i : grid0.Coords) (v426 : BitVec 32) (k0_hw538 : k0_chk538 i v426), ∀ (k0_h3 : k0_cond3 i = 1#1), ∀ a, (k0_off2169 v426) a + S8x128.size a ≤ S131072x128.size a := fun i v426 k0_hw538 k0_h3 => k0_hw538.2 k0_h3

def k0_off2170 (i : grid0.Coords) : Fin 3 → Nat :=
  let c0_264 : Index := 0#32
  let c0_265 : Index := 0#32
  let arg1 : BitVec 32 := BitVec.ofNat 32 (i 1).val
  let c2_i32_260 : BitVec 32 := 2#32
  let v435 : BitVec 32 := Scalar.muli arg1 c2_i32_260
  let c0_i32_261 : BitVec 32 := 0#32
  let v436 : BitVec 32 := Scalar.addi v435 c0_i32_261
  let c256_i32_262 : BitVec 32 := 256#32
  let v437 : BitVec 32 := Scalar.muli v436 c256_i32_262
  let c25_i32 : BitVec 32 := 25#32
  let v438 : BitVec 32 := Scalar.addi v437 c25_i32
  let v440 : Index := Scalar.indexCast v438
  ![0, 0, v440.toNat]
def k0_mult1077 (v441 : BitVec 32) : BitVec 32 :=
  v441

def k0_mult1078 (i : grid0.Coords) : BitVec 32 :=
  let arg1 : BitVec 32 := BitVec.ofNat 32 (i 1).val
  let c2_i32_260 : BitVec 32 := 2#32
  let v435 : BitVec 32 := Scalar.muli arg1 c2_i32_260
  let c0_i32_261 : BitVec 32 := 0#32
  let v436 : BitVec 32 := Scalar.addi v435 c0_i32_261
  let c256_i32_262 : BitVec 32 := 256#32
  let v437 : BitVec 32 := Scalar.muli v436 c256_i32_262
  let c25_i32 : BitVec 32 := 25#32
  let v438 : BitVec 32 := Scalar.addi v437 c25_i32
  let c8_i32_266 : BitVec 32 := 8#32
  let v443 : BitVec 32 := Scalar.muli v438 c8_i32_266
  v443
def k0_off2171 (i : grid0.Coords) : Fin 1 → Nat :=
  let c1_i32_263 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v439 : BitVec 32 := Scalar.subi c1_i32_263 v9
  ![v439.toNat]
def k0_off2172 (i : grid0.Coords) : Fin 3 → Nat :=
  let c1_i32_263 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v439 : BitVec 32 := Scalar.subi c1_i32_263 v9
  let arg1 : BitVec 32 := BitVec.ofNat 32 (i 1).val
  let c2_i32_260 : BitVec 32 := 2#32
  let v435 : BitVec 32 := Scalar.muli arg1 c2_i32_260
  let c0_i32_261 : BitVec 32 := 0#32
  let v436 : BitVec 32 := Scalar.addi v435 c0_i32_261
  let c256_i32_262 : BitVec 32 := 256#32
  let v437 : BitVec 32 := Scalar.muli v436 c256_i32_262
  let c25_i32 : BitVec 32 := 25#32
  let v438 : BitVec 32 := Scalar.addi v437 c25_i32
  let c8_i32_266 : BitVec 32 := 8#32
  let v443 : BitVec 32 := Scalar.muli v438 c8_i32_266
  let v444 : BitVec 32 := v443
  let c0_i32_267 : BitVec 32 := 0#32
  ![v439.toNat, v444.toNat, 0]
def k0_off2173 (v441 : BitVec 32) : Fin 2 → Nat :=
  let v442 : BitVec 32 := v441
  let c0_i32_268 : BitVec 32 := 0#32
  ![v442.toNat, 0]

def k0_chk539 (i : grid0.Coords) (v441 : BitVec 32) : Prop :=
  (∀ (k0_h3 : k0_cond3 i = 1#1), 8 ∣ (k0_mult1077 v441).toNat) ∧
  (∀ (k0_h3 : k0_cond3 i = 1#1), ∀ a, (k0_off2173 v441) a + S8x128.size a ≤ S131072x128.size a)
theorem k0_mult1077_dvd : ∀ (i : grid0.Coords) (v441 : BitVec 32) (k0_hw539 : k0_chk539 i v441), ∀ (k0_h3 : k0_cond3 i = 1#1), 8 ∣ (k0_mult1077 v441).toNat := fun i v441 k0_hw539 k0_h3 => k0_hw539.1 k0_h3
theorem k0_off2173_inb : ∀ (i : grid0.Coords) (v441 : BitVec 32) (k0_hw539 : k0_chk539 i v441), ∀ (k0_h3 : k0_cond3 i = 1#1), ∀ a, (k0_off2173 v441) a + S8x128.size a ≤ S131072x128.size a := fun i v441 k0_hw539 k0_h3 => k0_hw539.2 k0_h3

def k0_off2174 (i : grid0.Coords) : Fin 3 → Nat :=
  let c0_273 : Index := 0#32
  let c0_274 : Index := 0#32
  let arg1 : BitVec 32 := BitVec.ofNat 32 (i 1).val
  let c2_i32_269 : BitVec 32 := 2#32
  let v450 : BitVec 32 := Scalar.muli arg1 c2_i32_269
  let c0_i32_270 : BitVec 32 := 0#32
  let v451 : BitVec 32 := Scalar.addi v450 c0_i32_270
  let c256_i32_271 : BitVec 32 := 256#32
  let v452 : BitVec 32 := Scalar.muli v451 c256_i32_271
  let c26_i32 : BitVec 32 := 26#32
  let v453 : BitVec 32 := Scalar.addi v452 c26_i32
  let v455 : Index := Scalar.indexCast v453
  ![0, 0, v455.toNat]
def k0_mult1079 (v456 : BitVec 32) : BitVec 32 :=
  v456

def k0_mult1080 (i : grid0.Coords) : BitVec 32 :=
  let arg1 : BitVec 32 := BitVec.ofNat 32 (i 1).val
  let c2_i32_269 : BitVec 32 := 2#32
  let v450 : BitVec 32 := Scalar.muli arg1 c2_i32_269
  let c0_i32_270 : BitVec 32 := 0#32
  let v451 : BitVec 32 := Scalar.addi v450 c0_i32_270
  let c256_i32_271 : BitVec 32 := 256#32
  let v452 : BitVec 32 := Scalar.muli v451 c256_i32_271
  let c26_i32 : BitVec 32 := 26#32
  let v453 : BitVec 32 := Scalar.addi v452 c26_i32
  let c8_i32_275 : BitVec 32 := 8#32
  let v458 : BitVec 32 := Scalar.muli v453 c8_i32_275
  v458
def k0_off2175 (i : grid0.Coords) : Fin 1 → Nat :=
  let c1_i32_272 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v454 : BitVec 32 := Scalar.subi c1_i32_272 v9
  ![v454.toNat]
def k0_off2176 (i : grid0.Coords) : Fin 3 → Nat :=
  let c1_i32_272 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v454 : BitVec 32 := Scalar.subi c1_i32_272 v9
  let arg1 : BitVec 32 := BitVec.ofNat 32 (i 1).val
  let c2_i32_269 : BitVec 32 := 2#32
  let v450 : BitVec 32 := Scalar.muli arg1 c2_i32_269
  let c0_i32_270 : BitVec 32 := 0#32
  let v451 : BitVec 32 := Scalar.addi v450 c0_i32_270
  let c256_i32_271 : BitVec 32 := 256#32
  let v452 : BitVec 32 := Scalar.muli v451 c256_i32_271
  let c26_i32 : BitVec 32 := 26#32
  let v453 : BitVec 32 := Scalar.addi v452 c26_i32
  let c8_i32_275 : BitVec 32 := 8#32
  let v458 : BitVec 32 := Scalar.muli v453 c8_i32_275
  let v459 : BitVec 32 := v458
  let c0_i32_276 : BitVec 32 := 0#32
  ![v454.toNat, v459.toNat, 0]
def k0_off2177 (v456 : BitVec 32) : Fin 2 → Nat :=
  let v457 : BitVec 32 := v456
  let c0_i32_277 : BitVec 32 := 0#32
  ![v457.toNat, 0]

def k0_chk540 (i : grid0.Coords) (v456 : BitVec 32) : Prop :=
  (∀ (k0_h3 : k0_cond3 i = 1#1), 8 ∣ (k0_mult1079 v456).toNat) ∧
  (∀ (k0_h3 : k0_cond3 i = 1#1), ∀ a, (k0_off2177 v456) a + S8x128.size a ≤ S131072x128.size a)
theorem k0_mult1079_dvd : ∀ (i : grid0.Coords) (v456 : BitVec 32) (k0_hw540 : k0_chk540 i v456), ∀ (k0_h3 : k0_cond3 i = 1#1), 8 ∣ (k0_mult1079 v456).toNat := fun i v456 k0_hw540 k0_h3 => k0_hw540.1 k0_h3
theorem k0_off2177_inb : ∀ (i : grid0.Coords) (v456 : BitVec 32) (k0_hw540 : k0_chk540 i v456), ∀ (k0_h3 : k0_cond3 i = 1#1), ∀ a, (k0_off2177 v456) a + S8x128.size a ≤ S131072x128.size a := fun i v456 k0_hw540 k0_h3 => k0_hw540.2 k0_h3

def k0_off2178 (i : grid0.Coords) : Fin 3 → Nat :=
  let c0_282 : Index := 0#32
  let c0_283 : Index := 0#32
  let arg1 : BitVec 32 := BitVec.ofNat 32 (i 1).val
  let c2_i32_278 : BitVec 32 := 2#32
  let v465 : BitVec 32 := Scalar.muli arg1 c2_i32_278
  let c0_i32_279 : BitVec 32 := 0#32
  let v466 : BitVec 32 := Scalar.addi v465 c0_i32_279
  let c256_i32_280 : BitVec 32 := 256#32
  let v467 : BitVec 32 := Scalar.muli v466 c256_i32_280
  let c27_i32 : BitVec 32 := 27#32
  let v468 : BitVec 32 := Scalar.addi v467 c27_i32
  let v470 : Index := Scalar.indexCast v468
  ![0, 0, v470.toNat]
def k0_mult1081 (v471 : BitVec 32) : BitVec 32 :=
  v471

def k0_mult1082 (i : grid0.Coords) : BitVec 32 :=
  let arg1 : BitVec 32 := BitVec.ofNat 32 (i 1).val
  let c2_i32_278 : BitVec 32 := 2#32
  let v465 : BitVec 32 := Scalar.muli arg1 c2_i32_278
  let c0_i32_279 : BitVec 32 := 0#32
  let v466 : BitVec 32 := Scalar.addi v465 c0_i32_279
  let c256_i32_280 : BitVec 32 := 256#32
  let v467 : BitVec 32 := Scalar.muli v466 c256_i32_280
  let c27_i32 : BitVec 32 := 27#32
  let v468 : BitVec 32 := Scalar.addi v467 c27_i32
  let c8_i32_284 : BitVec 32 := 8#32
  let v473 : BitVec 32 := Scalar.muli v468 c8_i32_284
  v473
def k0_off2179 (i : grid0.Coords) : Fin 1 → Nat :=
  let c1_i32_281 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v469 : BitVec 32 := Scalar.subi c1_i32_281 v9
  ![v469.toNat]
def k0_off2180 (i : grid0.Coords) : Fin 3 → Nat :=
  let c1_i32_281 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v469 : BitVec 32 := Scalar.subi c1_i32_281 v9
  let arg1 : BitVec 32 := BitVec.ofNat 32 (i 1).val
  let c2_i32_278 : BitVec 32 := 2#32
  let v465 : BitVec 32 := Scalar.muli arg1 c2_i32_278
  let c0_i32_279 : BitVec 32 := 0#32
  let v466 : BitVec 32 := Scalar.addi v465 c0_i32_279
  let c256_i32_280 : BitVec 32 := 256#32
  let v467 : BitVec 32 := Scalar.muli v466 c256_i32_280
  let c27_i32 : BitVec 32 := 27#32
  let v468 : BitVec 32 := Scalar.addi v467 c27_i32
  let c8_i32_284 : BitVec 32 := 8#32
  let v473 : BitVec 32 := Scalar.muli v468 c8_i32_284
  let v474 : BitVec 32 := v473
  let c0_i32_285 : BitVec 32 := 0#32
  ![v469.toNat, v474.toNat, 0]
def k0_off2181 (v471 : BitVec 32) : Fin 2 → Nat :=
  let v472 : BitVec 32 := v471
  let c0_i32_286 : BitVec 32 := 0#32
  ![v472.toNat, 0]

def k0_chk541 (i : grid0.Coords) (v471 : BitVec 32) : Prop :=
  (∀ (k0_h3 : k0_cond3 i = 1#1), 8 ∣ (k0_mult1081 v471).toNat) ∧
  (∀ (k0_h3 : k0_cond3 i = 1#1), ∀ a, (k0_off2181 v471) a + S8x128.size a ≤ S131072x128.size a)
theorem k0_mult1081_dvd : ∀ (i : grid0.Coords) (v471 : BitVec 32) (k0_hw541 : k0_chk541 i v471), ∀ (k0_h3 : k0_cond3 i = 1#1), 8 ∣ (k0_mult1081 v471).toNat := fun i v471 k0_hw541 k0_h3 => k0_hw541.1 k0_h3
theorem k0_off2181_inb : ∀ (i : grid0.Coords) (v471 : BitVec 32) (k0_hw541 : k0_chk541 i v471), ∀ (k0_h3 : k0_cond3 i = 1#1), ∀ a, (k0_off2181 v471) a + S8x128.size a ≤ S131072x128.size a := fun i v471 k0_hw541 k0_h3 => k0_hw541.2 k0_h3

def k0_off2182 (i : grid0.Coords) : Fin 3 → Nat :=
  let c0_291 : Index := 0#32
  let c0_292 : Index := 0#32
  let arg1 : BitVec 32 := BitVec.ofNat 32 (i 1).val
  let c2_i32_287 : BitVec 32 := 2#32
  let v480 : BitVec 32 := Scalar.muli arg1 c2_i32_287
  let c0_i32_288 : BitVec 32 := 0#32
  let v481 : BitVec 32 := Scalar.addi v480 c0_i32_288
  let c256_i32_289 : BitVec 32 := 256#32
  let v482 : BitVec 32 := Scalar.muli v481 c256_i32_289
  let c28_i32 : BitVec 32 := 28#32
  let v483 : BitVec 32 := Scalar.addi v482 c28_i32
  let v485 : Index := Scalar.indexCast v483
  ![0, 0, v485.toNat]
def k0_mult1083 (v486 : BitVec 32) : BitVec 32 :=
  v486

def k0_mult1084 (i : grid0.Coords) : BitVec 32 :=
  let arg1 : BitVec 32 := BitVec.ofNat 32 (i 1).val
  let c2_i32_287 : BitVec 32 := 2#32
  let v480 : BitVec 32 := Scalar.muli arg1 c2_i32_287
  let c0_i32_288 : BitVec 32 := 0#32
  let v481 : BitVec 32 := Scalar.addi v480 c0_i32_288
  let c256_i32_289 : BitVec 32 := 256#32
  let v482 : BitVec 32 := Scalar.muli v481 c256_i32_289
  let c28_i32 : BitVec 32 := 28#32
  let v483 : BitVec 32 := Scalar.addi v482 c28_i32
  let c8_i32_293 : BitVec 32 := 8#32
  let v488 : BitVec 32 := Scalar.muli v483 c8_i32_293
  v488
def k0_off2183 (i : grid0.Coords) : Fin 1 → Nat :=
  let c1_i32_290 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v484 : BitVec 32 := Scalar.subi c1_i32_290 v9
  ![v484.toNat]
def k0_off2184 (i : grid0.Coords) : Fin 3 → Nat :=
  let c1_i32_290 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v484 : BitVec 32 := Scalar.subi c1_i32_290 v9
  let arg1 : BitVec 32 := BitVec.ofNat 32 (i 1).val
  let c2_i32_287 : BitVec 32 := 2#32
  let v480 : BitVec 32 := Scalar.muli arg1 c2_i32_287
  let c0_i32_288 : BitVec 32 := 0#32
  let v481 : BitVec 32 := Scalar.addi v480 c0_i32_288
  let c256_i32_289 : BitVec 32 := 256#32
  let v482 : BitVec 32 := Scalar.muli v481 c256_i32_289
  let c28_i32 : BitVec 32 := 28#32
  let v483 : BitVec 32 := Scalar.addi v482 c28_i32
  let c8_i32_293 : BitVec 32 := 8#32
  let v488 : BitVec 32 := Scalar.muli v483 c8_i32_293
  let v489 : BitVec 32 := v488
  let c0_i32_294 : BitVec 32 := 0#32
  ![v484.toNat, v489.toNat, 0]
def k0_off2185 (v486 : BitVec 32) : Fin 2 → Nat :=
  let v487 : BitVec 32 := v486
  let c0_i32_295 : BitVec 32 := 0#32
  ![v487.toNat, 0]

def k0_chk542 (i : grid0.Coords) (v486 : BitVec 32) : Prop :=
  (∀ (k0_h3 : k0_cond3 i = 1#1), 8 ∣ (k0_mult1083 v486).toNat) ∧
  (∀ (k0_h3 : k0_cond3 i = 1#1), ∀ a, (k0_off2185 v486) a + S8x128.size a ≤ S131072x128.size a)
theorem k0_mult1083_dvd : ∀ (i : grid0.Coords) (v486 : BitVec 32) (k0_hw542 : k0_chk542 i v486), ∀ (k0_h3 : k0_cond3 i = 1#1), 8 ∣ (k0_mult1083 v486).toNat := fun i v486 k0_hw542 k0_h3 => k0_hw542.1 k0_h3
theorem k0_off2185_inb : ∀ (i : grid0.Coords) (v486 : BitVec 32) (k0_hw542 : k0_chk542 i v486), ∀ (k0_h3 : k0_cond3 i = 1#1), ∀ a, (k0_off2185 v486) a + S8x128.size a ≤ S131072x128.size a := fun i v486 k0_hw542 k0_h3 => k0_hw542.2 k0_h3

def k0_off2186 (i : grid0.Coords) : Fin 3 → Nat :=
  let c0_300 : Index := 0#32
  let c0_301 : Index := 0#32
  let arg1 : BitVec 32 := BitVec.ofNat 32 (i 1).val
  let c2_i32_296 : BitVec 32 := 2#32
  let v495 : BitVec 32 := Scalar.muli arg1 c2_i32_296
  let c0_i32_297 : BitVec 32 := 0#32
  let v496 : BitVec 32 := Scalar.addi v495 c0_i32_297
  let c256_i32_298 : BitVec 32 := 256#32
  let v497 : BitVec 32 := Scalar.muli v496 c256_i32_298
  let c29_i32 : BitVec 32 := 29#32
  let v498 : BitVec 32 := Scalar.addi v497 c29_i32
  let v500 : Index := Scalar.indexCast v498
  ![0, 0, v500.toNat]
def k0_mult1085 (v501 : BitVec 32) : BitVec 32 :=
  v501

def k0_mult1086 (i : grid0.Coords) : BitVec 32 :=
  let arg1 : BitVec 32 := BitVec.ofNat 32 (i 1).val
  let c2_i32_296 : BitVec 32 := 2#32
  let v495 : BitVec 32 := Scalar.muli arg1 c2_i32_296
  let c0_i32_297 : BitVec 32 := 0#32
  let v496 : BitVec 32 := Scalar.addi v495 c0_i32_297
  let c256_i32_298 : BitVec 32 := 256#32
  let v497 : BitVec 32 := Scalar.muli v496 c256_i32_298
  let c29_i32 : BitVec 32 := 29#32
  let v498 : BitVec 32 := Scalar.addi v497 c29_i32
  let c8_i32_302 : BitVec 32 := 8#32
  let v503 : BitVec 32 := Scalar.muli v498 c8_i32_302
  v503
def k0_off2187 (i : grid0.Coords) : Fin 1 → Nat :=
  let c1_i32_299 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v499 : BitVec 32 := Scalar.subi c1_i32_299 v9
  ![v499.toNat]
def k0_off2188 (i : grid0.Coords) : Fin 3 → Nat :=
  let c1_i32_299 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v499 : BitVec 32 := Scalar.subi c1_i32_299 v9
  let arg1 : BitVec 32 := BitVec.ofNat 32 (i 1).val
  let c2_i32_296 : BitVec 32 := 2#32
  let v495 : BitVec 32 := Scalar.muli arg1 c2_i32_296
  let c0_i32_297 : BitVec 32 := 0#32
  let v496 : BitVec 32 := Scalar.addi v495 c0_i32_297
  let c256_i32_298 : BitVec 32 := 256#32
  let v497 : BitVec 32 := Scalar.muli v496 c256_i32_298
  let c29_i32 : BitVec 32 := 29#32
  let v498 : BitVec 32 := Scalar.addi v497 c29_i32
  let c8_i32_302 : BitVec 32 := 8#32
  let v503 : BitVec 32 := Scalar.muli v498 c8_i32_302
  let v504 : BitVec 32 := v503
  let c0_i32_303 : BitVec 32 := 0#32
  ![v499.toNat, v504.toNat, 0]
def k0_off2189 (v501 : BitVec 32) : Fin 2 → Nat :=
  let v502 : BitVec 32 := v501
  let c0_i32_304 : BitVec 32 := 0#32
  ![v502.toNat, 0]

def k0_chk543 (i : grid0.Coords) (v501 : BitVec 32) : Prop :=
  (∀ (k0_h3 : k0_cond3 i = 1#1), 8 ∣ (k0_mult1085 v501).toNat) ∧
  (∀ (k0_h3 : k0_cond3 i = 1#1), ∀ a, (k0_off2189 v501) a + S8x128.size a ≤ S131072x128.size a)
theorem k0_mult1085_dvd : ∀ (i : grid0.Coords) (v501 : BitVec 32) (k0_hw543 : k0_chk543 i v501), ∀ (k0_h3 : k0_cond3 i = 1#1), 8 ∣ (k0_mult1085 v501).toNat := fun i v501 k0_hw543 k0_h3 => k0_hw543.1 k0_h3
theorem k0_off2189_inb : ∀ (i : grid0.Coords) (v501 : BitVec 32) (k0_hw543 : k0_chk543 i v501), ∀ (k0_h3 : k0_cond3 i = 1#1), ∀ a, (k0_off2189 v501) a + S8x128.size a ≤ S131072x128.size a := fun i v501 k0_hw543 k0_h3 => k0_hw543.2 k0_h3

def k0_off2190 (i : grid0.Coords) : Fin 3 → Nat :=
  let c0_309 : Index := 0#32
  let c0_310 : Index := 0#32
  let arg1 : BitVec 32 := BitVec.ofNat 32 (i 1).val
  let c2_i32_305 : BitVec 32 := 2#32
  let v510 : BitVec 32 := Scalar.muli arg1 c2_i32_305
  let c0_i32_306 : BitVec 32 := 0#32
  let v511 : BitVec 32 := Scalar.addi v510 c0_i32_306
  let c256_i32_307 : BitVec 32 := 256#32
  let v512 : BitVec 32 := Scalar.muli v511 c256_i32_307
  let c30_i32 : BitVec 32 := 30#32
  let v513 : BitVec 32 := Scalar.addi v512 c30_i32
  let v515 : Index := Scalar.indexCast v513
  ![0, 0, v515.toNat]
def k0_mult1087 (v516 : BitVec 32) : BitVec 32 :=
  v516

def k0_mult1088 (i : grid0.Coords) : BitVec 32 :=
  let arg1 : BitVec 32 := BitVec.ofNat 32 (i 1).val
  let c2_i32_305 : BitVec 32 := 2#32
  let v510 : BitVec 32 := Scalar.muli arg1 c2_i32_305
  let c0_i32_306 : BitVec 32 := 0#32
  let v511 : BitVec 32 := Scalar.addi v510 c0_i32_306
  let c256_i32_307 : BitVec 32 := 256#32
  let v512 : BitVec 32 := Scalar.muli v511 c256_i32_307
  let c30_i32 : BitVec 32 := 30#32
  let v513 : BitVec 32 := Scalar.addi v512 c30_i32
  let c8_i32_311 : BitVec 32 := 8#32
  let v518 : BitVec 32 := Scalar.muli v513 c8_i32_311
  v518
def k0_off2191 (i : grid0.Coords) : Fin 1 → Nat :=
  let c1_i32_308 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v514 : BitVec 32 := Scalar.subi c1_i32_308 v9
  ![v514.toNat]
def k0_off2192 (i : grid0.Coords) : Fin 3 → Nat :=
  let c1_i32_308 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v514 : BitVec 32 := Scalar.subi c1_i32_308 v9
  let arg1 : BitVec 32 := BitVec.ofNat 32 (i 1).val
  let c2_i32_305 : BitVec 32 := 2#32
  let v510 : BitVec 32 := Scalar.muli arg1 c2_i32_305
  let c0_i32_306 : BitVec 32 := 0#32
  let v511 : BitVec 32 := Scalar.addi v510 c0_i32_306
  let c256_i32_307 : BitVec 32 := 256#32
  let v512 : BitVec 32 := Scalar.muli v511 c256_i32_307
  let c30_i32 : BitVec 32 := 30#32
  let v513 : BitVec 32 := Scalar.addi v512 c30_i32
  let c8_i32_311 : BitVec 32 := 8#32
  let v518 : BitVec 32 := Scalar.muli v513 c8_i32_311
  let v519 : BitVec 32 := v518
  let c0_i32_312 : BitVec 32 := 0#32
  ![v514.toNat, v519.toNat, 0]
def k0_off2193 (v516 : BitVec 32) : Fin 2 → Nat :=
  let v517 : BitVec 32 := v516
  let c0_i32_313 : BitVec 32 := 0#32
  ![v517.toNat, 0]

def k0_chk544 (i : grid0.Coords) (v516 : BitVec 32) : Prop :=
  (∀ (k0_h3 : k0_cond3 i = 1#1), 8 ∣ (k0_mult1087 v516).toNat) ∧
  (∀ (k0_h3 : k0_cond3 i = 1#1), ∀ a, (k0_off2193 v516) a + S8x128.size a ≤ S131072x128.size a)
theorem k0_mult1087_dvd : ∀ (i : grid0.Coords) (v516 : BitVec 32) (k0_hw544 : k0_chk544 i v516), ∀ (k0_h3 : k0_cond3 i = 1#1), 8 ∣ (k0_mult1087 v516).toNat := fun i v516 k0_hw544 k0_h3 => k0_hw544.1 k0_h3
theorem k0_off2193_inb : ∀ (i : grid0.Coords) (v516 : BitVec 32) (k0_hw544 : k0_chk544 i v516), ∀ (k0_h3 : k0_cond3 i = 1#1), ∀ a, (k0_off2193 v516) a + S8x128.size a ≤ S131072x128.size a := fun i v516 k0_hw544 k0_h3 => k0_hw544.2 k0_h3

def k0_off2194 (i : grid0.Coords) : Fin 3 → Nat :=
  let c0_318 : Index := 0#32
  let c0_319 : Index := 0#32
  let arg1 : BitVec 32 := BitVec.ofNat 32 (i 1).val
  let c2_i32_314 : BitVec 32 := 2#32
  let v525 : BitVec 32 := Scalar.muli arg1 c2_i32_314
  let c0_i32_315 : BitVec 32 := 0#32
  let v526 : BitVec 32 := Scalar.addi v525 c0_i32_315
  let c256_i32_316 : BitVec 32 := 256#32
  let v527 : BitVec 32 := Scalar.muli v526 c256_i32_316
  let c31_i32 : BitVec 32 := 31#32
  let v528 : BitVec 32 := Scalar.addi v527 c31_i32
  let v530 : Index := Scalar.indexCast v528
  ![0, 0, v530.toNat]
def k0_mult1089 (v531 : BitVec 32) : BitVec 32 :=
  v531

def k0_mult1090 (i : grid0.Coords) : BitVec 32 :=
  let arg1 : BitVec 32 := BitVec.ofNat 32 (i 1).val
  let c2_i32_314 : BitVec 32 := 2#32
  let v525 : BitVec 32 := Scalar.muli arg1 c2_i32_314
  let c0_i32_315 : BitVec 32 := 0#32
  let v526 : BitVec 32 := Scalar.addi v525 c0_i32_315
  let c256_i32_316 : BitVec 32 := 256#32
  let v527 : BitVec 32 := Scalar.muli v526 c256_i32_316
  let c31_i32 : BitVec 32 := 31#32
  let v528 : BitVec 32 := Scalar.addi v527 c31_i32
  let c8_i32_320 : BitVec 32 := 8#32
  let v533 : BitVec 32 := Scalar.muli v528 c8_i32_320
  v533
def k0_off2195 (i : grid0.Coords) : Fin 1 → Nat :=
  let c1_i32_317 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v529 : BitVec 32 := Scalar.subi c1_i32_317 v9
  ![v529.toNat]
def k0_off2196 (i : grid0.Coords) : Fin 3 → Nat :=
  let c1_i32_317 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v529 : BitVec 32 := Scalar.subi c1_i32_317 v9
  let arg1 : BitVec 32 := BitVec.ofNat 32 (i 1).val
  let c2_i32_314 : BitVec 32 := 2#32
  let v525 : BitVec 32 := Scalar.muli arg1 c2_i32_314
  let c0_i32_315 : BitVec 32 := 0#32
  let v526 : BitVec 32 := Scalar.addi v525 c0_i32_315
  let c256_i32_316 : BitVec 32 := 256#32
  let v527 : BitVec 32 := Scalar.muli v526 c256_i32_316
  let c31_i32 : BitVec 32 := 31#32
  let v528 : BitVec 32 := Scalar.addi v527 c31_i32
  let c8_i32_320 : BitVec 32 := 8#32
  let v533 : BitVec 32 := Scalar.muli v528 c8_i32_320
  let v534 : BitVec 32 := v533
  let c0_i32_321 : BitVec 32 := 0#32
  ![v529.toNat, v534.toNat, 0]
def k0_off2197 (v531 : BitVec 32) : Fin 2 → Nat :=
  let v532 : BitVec 32 := v531
  let c0_i32_322 : BitVec 32 := 0#32
  ![v532.toNat, 0]

def k0_chk545 (i : grid0.Coords) (v531 : BitVec 32) : Prop :=
  (∀ (k0_h3 : k0_cond3 i = 1#1), 8 ∣ (k0_mult1089 v531).toNat) ∧
  (∀ (k0_h3 : k0_cond3 i = 1#1), ∀ a, (k0_off2197 v531) a + S8x128.size a ≤ S131072x128.size a)
theorem k0_mult1089_dvd : ∀ (i : grid0.Coords) (v531 : BitVec 32) (k0_hw545 : k0_chk545 i v531), ∀ (k0_h3 : k0_cond3 i = 1#1), 8 ∣ (k0_mult1089 v531).toNat := fun i v531 k0_hw545 k0_h3 => k0_hw545.1 k0_h3
theorem k0_off2197_inb : ∀ (i : grid0.Coords) (v531 : BitVec 32) (k0_hw545 : k0_chk545 i v531), ∀ (k0_h3 : k0_cond3 i = 1#1), ∀ a, (k0_off2197 v531) a + S8x128.size a ≤ S131072x128.size a := fun i v531 k0_hw545 k0_h3 => k0_hw545.2 k0_h3

def k0_off2198 (i : grid0.Coords) : Fin 3 → Nat :=
  let c0_327 : Index := 0#32
  let c0_328 : Index := 0#32
  let arg1 : BitVec 32 := BitVec.ofNat 32 (i 1).val
  let c2_i32_323 : BitVec 32 := 2#32
  let v540 : BitVec 32 := Scalar.muli arg1 c2_i32_323
  let c0_i32_324 : BitVec 32 := 0#32
  let v541 : BitVec 32 := Scalar.addi v540 c0_i32_324
  let c256_i32_325 : BitVec 32 := 256#32
  let v542 : BitVec 32 := Scalar.muli v541 c256_i32_325
  let c32_i32 : BitVec 32 := 32#32
  let v543 : BitVec 32 := Scalar.addi v542 c32_i32
  let v545 : Index := Scalar.indexCast v543
  ![0, 0, v545.toNat]
def k0_mult1091 (v546 : BitVec 32) : BitVec 32 :=
  v546

def k0_mult1092 (i : grid0.Coords) : BitVec 32 :=
  let arg1 : BitVec 32 := BitVec.ofNat 32 (i 1).val
  let c2_i32_323 : BitVec 32 := 2#32
  let v540 : BitVec 32 := Scalar.muli arg1 c2_i32_323
  let c0_i32_324 : BitVec 32 := 0#32
  let v541 : BitVec 32 := Scalar.addi v540 c0_i32_324
  let c256_i32_325 : BitVec 32 := 256#32
  let v542 : BitVec 32 := Scalar.muli v541 c256_i32_325
  let c32_i32 : BitVec 32 := 32#32
  let v543 : BitVec 32 := Scalar.addi v542 c32_i32
  let c8_i32_329 : BitVec 32 := 8#32
  let v548 : BitVec 32 := Scalar.muli v543 c8_i32_329
  v548
def k0_off2199 (i : grid0.Coords) : Fin 1 → Nat :=
  let c1_i32_326 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v544 : BitVec 32 := Scalar.subi c1_i32_326 v9
  ![v544.toNat]
def k0_off2200 (i : grid0.Coords) : Fin 3 → Nat :=
  let c1_i32_326 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v544 : BitVec 32 := Scalar.subi c1_i32_326 v9
  let arg1 : BitVec 32 := BitVec.ofNat 32 (i 1).val
  let c2_i32_323 : BitVec 32 := 2#32
  let v540 : BitVec 32 := Scalar.muli arg1 c2_i32_323
  let c0_i32_324 : BitVec 32 := 0#32
  let v541 : BitVec 32 := Scalar.addi v540 c0_i32_324
  let c256_i32_325 : BitVec 32 := 256#32
  let v542 : BitVec 32 := Scalar.muli v541 c256_i32_325
  let c32_i32 : BitVec 32 := 32#32
  let v543 : BitVec 32 := Scalar.addi v542 c32_i32
  let c8_i32_329 : BitVec 32 := 8#32
  let v548 : BitVec 32 := Scalar.muli v543 c8_i32_329
  let v549 : BitVec 32 := v548
  let c0_i32_330 : BitVec 32 := 0#32
  ![v544.toNat, v549.toNat, 0]
def k0_off2201 (v546 : BitVec 32) : Fin 2 → Nat :=
  let v547 : BitVec 32 := v546
  let c0_i32_331 : BitVec 32 := 0#32
  ![v547.toNat, 0]

def k0_chk546 (i : grid0.Coords) (v546 : BitVec 32) : Prop :=
  (∀ (k0_h3 : k0_cond3 i = 1#1), 8 ∣ (k0_mult1091 v546).toNat) ∧
  (∀ (k0_h3 : k0_cond3 i = 1#1), ∀ a, (k0_off2201 v546) a + S8x128.size a ≤ S131072x128.size a)
theorem k0_mult1091_dvd : ∀ (i : grid0.Coords) (v546 : BitVec 32) (k0_hw546 : k0_chk546 i v546), ∀ (k0_h3 : k0_cond3 i = 1#1), 8 ∣ (k0_mult1091 v546).toNat := fun i v546 k0_hw546 k0_h3 => k0_hw546.1 k0_h3
theorem k0_off2201_inb : ∀ (i : grid0.Coords) (v546 : BitVec 32) (k0_hw546 : k0_chk546 i v546), ∀ (k0_h3 : k0_cond3 i = 1#1), ∀ a, (k0_off2201 v546) a + S8x128.size a ≤ S131072x128.size a := fun i v546 k0_hw546 k0_h3 => k0_hw546.2 k0_h3

def k0_off2202 (i : grid0.Coords) : Fin 3 → Nat :=
  let c0_336 : Index := 0#32
  let c0_337 : Index := 0#32
  let arg1 : BitVec 32 := BitVec.ofNat 32 (i 1).val
  let c2_i32_332 : BitVec 32 := 2#32
  let v555 : BitVec 32 := Scalar.muli arg1 c2_i32_332
  let c0_i32_333 : BitVec 32 := 0#32
  let v556 : BitVec 32 := Scalar.addi v555 c0_i32_333
  let c256_i32_334 : BitVec 32 := 256#32
  let v557 : BitVec 32 := Scalar.muli v556 c256_i32_334
  let c33_i32 : BitVec 32 := 33#32
  let v558 : BitVec 32 := Scalar.addi v557 c33_i32
  let v560 : Index := Scalar.indexCast v558
  ![0, 0, v560.toNat]
def k0_mult1093 (v561 : BitVec 32) : BitVec 32 :=
  v561

def k0_mult1094 (i : grid0.Coords) : BitVec 32 :=
  let arg1 : BitVec 32 := BitVec.ofNat 32 (i 1).val
  let c2_i32_332 : BitVec 32 := 2#32
  let v555 : BitVec 32 := Scalar.muli arg1 c2_i32_332
  let c0_i32_333 : BitVec 32 := 0#32
  let v556 : BitVec 32 := Scalar.addi v555 c0_i32_333
  let c256_i32_334 : BitVec 32 := 256#32
  let v557 : BitVec 32 := Scalar.muli v556 c256_i32_334
  let c33_i32 : BitVec 32 := 33#32
  let v558 : BitVec 32 := Scalar.addi v557 c33_i32
  let c8_i32_338 : BitVec 32 := 8#32
  let v563 : BitVec 32 := Scalar.muli v558 c8_i32_338
  v563
def k0_off2203 (i : grid0.Coords) : Fin 1 → Nat :=
  let c1_i32_335 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v559 : BitVec 32 := Scalar.subi c1_i32_335 v9
  ![v559.toNat]
def k0_off2204 (i : grid0.Coords) : Fin 3 → Nat :=
  let c1_i32_335 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v559 : BitVec 32 := Scalar.subi c1_i32_335 v9
  let arg1 : BitVec 32 := BitVec.ofNat 32 (i 1).val
  let c2_i32_332 : BitVec 32 := 2#32
  let v555 : BitVec 32 := Scalar.muli arg1 c2_i32_332
  let c0_i32_333 : BitVec 32 := 0#32
  let v556 : BitVec 32 := Scalar.addi v555 c0_i32_333
  let c256_i32_334 : BitVec 32 := 256#32
  let v557 : BitVec 32 := Scalar.muli v556 c256_i32_334
  let c33_i32 : BitVec 32 := 33#32
  let v558 : BitVec 32 := Scalar.addi v557 c33_i32
  let c8_i32_338 : BitVec 32 := 8#32
  let v563 : BitVec 32 := Scalar.muli v558 c8_i32_338
  let v564 : BitVec 32 := v563
  let c0_i32_339 : BitVec 32 := 0#32
  ![v559.toNat, v564.toNat, 0]
def k0_off2205 (v561 : BitVec 32) : Fin 2 → Nat :=
  let v562 : BitVec 32 := v561
  let c0_i32_340 : BitVec 32 := 0#32
  ![v562.toNat, 0]

def k0_chk547 (i : grid0.Coords) (v561 : BitVec 32) : Prop :=
  (∀ (k0_h3 : k0_cond3 i = 1#1), 8 ∣ (k0_mult1093 v561).toNat) ∧
  (∀ (k0_h3 : k0_cond3 i = 1#1), ∀ a, (k0_off2205 v561) a + S8x128.size a ≤ S131072x128.size a)
theorem k0_mult1093_dvd : ∀ (i : grid0.Coords) (v561 : BitVec 32) (k0_hw547 : k0_chk547 i v561), ∀ (k0_h3 : k0_cond3 i = 1#1), 8 ∣ (k0_mult1093 v561).toNat := fun i v561 k0_hw547 k0_h3 => k0_hw547.1 k0_h3
theorem k0_off2205_inb : ∀ (i : grid0.Coords) (v561 : BitVec 32) (k0_hw547 : k0_chk547 i v561), ∀ (k0_h3 : k0_cond3 i = 1#1), ∀ a, (k0_off2205 v561) a + S8x128.size a ≤ S131072x128.size a := fun i v561 k0_hw547 k0_h3 => k0_hw547.2 k0_h3

def k0_off2206 (i : grid0.Coords) : Fin 3 → Nat :=
  let c0_345 : Index := 0#32
  let c0_346 : Index := 0#32
  let arg1 : BitVec 32 := BitVec.ofNat 32 (i 1).val
  let c2_i32_341 : BitVec 32 := 2#32
  let v570 : BitVec 32 := Scalar.muli arg1 c2_i32_341
  let c0_i32_342 : BitVec 32 := 0#32
  let v571 : BitVec 32 := Scalar.addi v570 c0_i32_342
  let c256_i32_343 : BitVec 32 := 256#32
  let v572 : BitVec 32 := Scalar.muli v571 c256_i32_343
  let c34_i32 : BitVec 32 := 34#32
  let v573 : BitVec 32 := Scalar.addi v572 c34_i32
  let v575 : Index := Scalar.indexCast v573
  ![0, 0, v575.toNat]
def k0_mult1095 (v576 : BitVec 32) : BitVec 32 :=
  v576

def k0_mult1096 (i : grid0.Coords) : BitVec 32 :=
  let arg1 : BitVec 32 := BitVec.ofNat 32 (i 1).val
  let c2_i32_341 : BitVec 32 := 2#32
  let v570 : BitVec 32 := Scalar.muli arg1 c2_i32_341
  let c0_i32_342 : BitVec 32 := 0#32
  let v571 : BitVec 32 := Scalar.addi v570 c0_i32_342
  let c256_i32_343 : BitVec 32 := 256#32
  let v572 : BitVec 32 := Scalar.muli v571 c256_i32_343
  let c34_i32 : BitVec 32 := 34#32
  let v573 : BitVec 32 := Scalar.addi v572 c34_i32
  let c8_i32_347 : BitVec 32 := 8#32
  let v578 : BitVec 32 := Scalar.muli v573 c8_i32_347
  v578
def k0_off2207 (i : grid0.Coords) : Fin 1 → Nat :=
  let c1_i32_344 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v574 : BitVec 32 := Scalar.subi c1_i32_344 v9
  ![v574.toNat]
def k0_off2208 (i : grid0.Coords) : Fin 3 → Nat :=
  let c1_i32_344 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v574 : BitVec 32 := Scalar.subi c1_i32_344 v9
  let arg1 : BitVec 32 := BitVec.ofNat 32 (i 1).val
  let c2_i32_341 : BitVec 32 := 2#32
  let v570 : BitVec 32 := Scalar.muli arg1 c2_i32_341
  let c0_i32_342 : BitVec 32 := 0#32
  let v571 : BitVec 32 := Scalar.addi v570 c0_i32_342
  let c256_i32_343 : BitVec 32 := 256#32
  let v572 : BitVec 32 := Scalar.muli v571 c256_i32_343
  let c34_i32 : BitVec 32 := 34#32
  let v573 : BitVec 32 := Scalar.addi v572 c34_i32
  let c8_i32_347 : BitVec 32 := 8#32
  let v578 : BitVec 32 := Scalar.muli v573 c8_i32_347
  let v579 : BitVec 32 := v578
  let c0_i32_348 : BitVec 32 := 0#32
  ![v574.toNat, v579.toNat, 0]
def k0_off2209 (v576 : BitVec 32) : Fin 2 → Nat :=
  let v577 : BitVec 32 := v576
  let c0_i32_349 : BitVec 32 := 0#32
  ![v577.toNat, 0]

def k0_chk548 (i : grid0.Coords) (v576 : BitVec 32) : Prop :=
  (∀ (k0_h3 : k0_cond3 i = 1#1), 8 ∣ (k0_mult1095 v576).toNat) ∧
  (∀ (k0_h3 : k0_cond3 i = 1#1), ∀ a, (k0_off2209 v576) a + S8x128.size a ≤ S131072x128.size a)
theorem k0_mult1095_dvd : ∀ (i : grid0.Coords) (v576 : BitVec 32) (k0_hw548 : k0_chk548 i v576), ∀ (k0_h3 : k0_cond3 i = 1#1), 8 ∣ (k0_mult1095 v576).toNat := fun i v576 k0_hw548 k0_h3 => k0_hw548.1 k0_h3
theorem k0_off2209_inb : ∀ (i : grid0.Coords) (v576 : BitVec 32) (k0_hw548 : k0_chk548 i v576), ∀ (k0_h3 : k0_cond3 i = 1#1), ∀ a, (k0_off2209 v576) a + S8x128.size a ≤ S131072x128.size a := fun i v576 k0_hw548 k0_h3 => k0_hw548.2 k0_h3

def k0_off2210 (i : grid0.Coords) : Fin 3 → Nat :=
  let c0_354 : Index := 0#32
  let c0_355 : Index := 0#32
  let arg1 : BitVec 32 := BitVec.ofNat 32 (i 1).val
  let c2_i32_350 : BitVec 32 := 2#32
  let v585 : BitVec 32 := Scalar.muli arg1 c2_i32_350
  let c0_i32_351 : BitVec 32 := 0#32
  let v586 : BitVec 32 := Scalar.addi v585 c0_i32_351
  let c256_i32_352 : BitVec 32 := 256#32
  let v587 : BitVec 32 := Scalar.muli v586 c256_i32_352
  let c35_i32 : BitVec 32 := 35#32
  let v588 : BitVec 32 := Scalar.addi v587 c35_i32
  let v590 : Index := Scalar.indexCast v588
  ![0, 0, v590.toNat]
def k0_mult1097 (v591 : BitVec 32) : BitVec 32 :=
  v591

def k0_mult1098 (i : grid0.Coords) : BitVec 32 :=
  let arg1 : BitVec 32 := BitVec.ofNat 32 (i 1).val
  let c2_i32_350 : BitVec 32 := 2#32
  let v585 : BitVec 32 := Scalar.muli arg1 c2_i32_350
  let c0_i32_351 : BitVec 32 := 0#32
  let v586 : BitVec 32 := Scalar.addi v585 c0_i32_351
  let c256_i32_352 : BitVec 32 := 256#32
  let v587 : BitVec 32 := Scalar.muli v586 c256_i32_352
  let c35_i32 : BitVec 32 := 35#32
  let v588 : BitVec 32 := Scalar.addi v587 c35_i32
  let c8_i32_356 : BitVec 32 := 8#32
  let v593 : BitVec 32 := Scalar.muli v588 c8_i32_356
  v593
def k0_off2211 (i : grid0.Coords) : Fin 1 → Nat :=
  let c1_i32_353 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v589 : BitVec 32 := Scalar.subi c1_i32_353 v9
  ![v589.toNat]
def k0_off2212 (i : grid0.Coords) : Fin 3 → Nat :=
  let c1_i32_353 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v589 : BitVec 32 := Scalar.subi c1_i32_353 v9
  let arg1 : BitVec 32 := BitVec.ofNat 32 (i 1).val
  let c2_i32_350 : BitVec 32 := 2#32
  let v585 : BitVec 32 := Scalar.muli arg1 c2_i32_350
  let c0_i32_351 : BitVec 32 := 0#32
  let v586 : BitVec 32 := Scalar.addi v585 c0_i32_351
  let c256_i32_352 : BitVec 32 := 256#32
  let v587 : BitVec 32 := Scalar.muli v586 c256_i32_352
  let c35_i32 : BitVec 32 := 35#32
  let v588 : BitVec 32 := Scalar.addi v587 c35_i32
  let c8_i32_356 : BitVec 32 := 8#32
  let v593 : BitVec 32 := Scalar.muli v588 c8_i32_356
  let v594 : BitVec 32 := v593
  let c0_i32_357 : BitVec 32 := 0#32
  ![v589.toNat, v594.toNat, 0]
def k0_off2213 (v591 : BitVec 32) : Fin 2 → Nat :=
  let v592 : BitVec 32 := v591
  let c0_i32_358 : BitVec 32 := 0#32
  ![v592.toNat, 0]

def k0_chk549 (i : grid0.Coords) (v591 : BitVec 32) : Prop :=
  (∀ (k0_h3 : k0_cond3 i = 1#1), 8 ∣ (k0_mult1097 v591).toNat) ∧
  (∀ (k0_h3 : k0_cond3 i = 1#1), ∀ a, (k0_off2213 v591) a + S8x128.size a ≤ S131072x128.size a)
theorem k0_mult1097_dvd : ∀ (i : grid0.Coords) (v591 : BitVec 32) (k0_hw549 : k0_chk549 i v591), ∀ (k0_h3 : k0_cond3 i = 1#1), 8 ∣ (k0_mult1097 v591).toNat := fun i v591 k0_hw549 k0_h3 => k0_hw549.1 k0_h3
theorem k0_off2213_inb : ∀ (i : grid0.Coords) (v591 : BitVec 32) (k0_hw549 : k0_chk549 i v591), ∀ (k0_h3 : k0_cond3 i = 1#1), ∀ a, (k0_off2213 v591) a + S8x128.size a ≤ S131072x128.size a := fun i v591 k0_hw549 k0_h3 => k0_hw549.2 k0_h3

def k0_off2214 (i : grid0.Coords) : Fin 3 → Nat :=
  let c0_363 : Index := 0#32
  let c0_364 : Index := 0#32
  let arg1 : BitVec 32 := BitVec.ofNat 32 (i 1).val
  let c2_i32_359 : BitVec 32 := 2#32
  let v600 : BitVec 32 := Scalar.muli arg1 c2_i32_359
  let c0_i32_360 : BitVec 32 := 0#32
  let v601 : BitVec 32 := Scalar.addi v600 c0_i32_360
  let c256_i32_361 : BitVec 32 := 256#32
  let v602 : BitVec 32 := Scalar.muli v601 c256_i32_361
  let c36_i32 : BitVec 32 := 36#32
  let v603 : BitVec 32 := Scalar.addi v602 c36_i32
  let v605 : Index := Scalar.indexCast v603
  ![0, 0, v605.toNat]
def k0_mult1099 (v606 : BitVec 32) : BitVec 32 :=
  v606

def k0_mult1100 (i : grid0.Coords) : BitVec 32 :=
  let arg1 : BitVec 32 := BitVec.ofNat 32 (i 1).val
  let c2_i32_359 : BitVec 32 := 2#32
  let v600 : BitVec 32 := Scalar.muli arg1 c2_i32_359
  let c0_i32_360 : BitVec 32 := 0#32
  let v601 : BitVec 32 := Scalar.addi v600 c0_i32_360
  let c256_i32_361 : BitVec 32 := 256#32
  let v602 : BitVec 32 := Scalar.muli v601 c256_i32_361
  let c36_i32 : BitVec 32 := 36#32
  let v603 : BitVec 32 := Scalar.addi v602 c36_i32
  let c8_i32_365 : BitVec 32 := 8#32
  let v608 : BitVec 32 := Scalar.muli v603 c8_i32_365
  v608
def k0_off2215 (i : grid0.Coords) : Fin 1 → Nat :=
  let c1_i32_362 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v604 : BitVec 32 := Scalar.subi c1_i32_362 v9
  ![v604.toNat]
def k0_off2216 (i : grid0.Coords) : Fin 3 → Nat :=
  let c1_i32_362 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v604 : BitVec 32 := Scalar.subi c1_i32_362 v9
  let arg1 : BitVec 32 := BitVec.ofNat 32 (i 1).val
  let c2_i32_359 : BitVec 32 := 2#32
  let v600 : BitVec 32 := Scalar.muli arg1 c2_i32_359
  let c0_i32_360 : BitVec 32 := 0#32
  let v601 : BitVec 32 := Scalar.addi v600 c0_i32_360
  let c256_i32_361 : BitVec 32 := 256#32
  let v602 : BitVec 32 := Scalar.muli v601 c256_i32_361
  let c36_i32 : BitVec 32 := 36#32
  let v603 : BitVec 32 := Scalar.addi v602 c36_i32
  let c8_i32_365 : BitVec 32 := 8#32
  let v608 : BitVec 32 := Scalar.muli v603 c8_i32_365
  let v609 : BitVec 32 := v608
  let c0_i32_366 : BitVec 32 := 0#32
  ![v604.toNat, v609.toNat, 0]
def k0_off2217 (v606 : BitVec 32) : Fin 2 → Nat :=
  let v607 : BitVec 32 := v606
  let c0_i32_367 : BitVec 32 := 0#32
  ![v607.toNat, 0]

def k0_chk550 (i : grid0.Coords) (v606 : BitVec 32) : Prop :=
  (∀ (k0_h3 : k0_cond3 i = 1#1), 8 ∣ (k0_mult1099 v606).toNat) ∧
  (∀ (k0_h3 : k0_cond3 i = 1#1), ∀ a, (k0_off2217 v606) a + S8x128.size a ≤ S131072x128.size a)
theorem k0_mult1099_dvd : ∀ (i : grid0.Coords) (v606 : BitVec 32) (k0_hw550 : k0_chk550 i v606), ∀ (k0_h3 : k0_cond3 i = 1#1), 8 ∣ (k0_mult1099 v606).toNat := fun i v606 k0_hw550 k0_h3 => k0_hw550.1 k0_h3
theorem k0_off2217_inb : ∀ (i : grid0.Coords) (v606 : BitVec 32) (k0_hw550 : k0_chk550 i v606), ∀ (k0_h3 : k0_cond3 i = 1#1), ∀ a, (k0_off2217 v606) a + S8x128.size a ≤ S131072x128.size a := fun i v606 k0_hw550 k0_h3 => k0_hw550.2 k0_h3

def k0_off2218 (i : grid0.Coords) : Fin 3 → Nat :=
  let c0_372 : Index := 0#32
  let c0_373 : Index := 0#32
  let arg1 : BitVec 32 := BitVec.ofNat 32 (i 1).val
  let c2_i32_368 : BitVec 32 := 2#32
  let v615 : BitVec 32 := Scalar.muli arg1 c2_i32_368
  let c0_i32_369 : BitVec 32 := 0#32
  let v616 : BitVec 32 := Scalar.addi v615 c0_i32_369
  let c256_i32_370 : BitVec 32 := 256#32
  let v617 : BitVec 32 := Scalar.muli v616 c256_i32_370
  let c37_i32 : BitVec 32 := 37#32
  let v618 : BitVec 32 := Scalar.addi v617 c37_i32
  let v620 : Index := Scalar.indexCast v618
  ![0, 0, v620.toNat]
def k0_mult1101 (v621 : BitVec 32) : BitVec 32 :=
  v621

def k0_mult1102 (i : grid0.Coords) : BitVec 32 :=
  let arg1 : BitVec 32 := BitVec.ofNat 32 (i 1).val
  let c2_i32_368 : BitVec 32 := 2#32
  let v615 : BitVec 32 := Scalar.muli arg1 c2_i32_368
  let c0_i32_369 : BitVec 32 := 0#32
  let v616 : BitVec 32 := Scalar.addi v615 c0_i32_369
  let c256_i32_370 : BitVec 32 := 256#32
  let v617 : BitVec 32 := Scalar.muli v616 c256_i32_370
  let c37_i32 : BitVec 32 := 37#32
  let v618 : BitVec 32 := Scalar.addi v617 c37_i32
  let c8_i32_374 : BitVec 32 := 8#32
  let v623 : BitVec 32 := Scalar.muli v618 c8_i32_374
  v623
def k0_off2219 (i : grid0.Coords) : Fin 1 → Nat :=
  let c1_i32_371 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v619 : BitVec 32 := Scalar.subi c1_i32_371 v9
  ![v619.toNat]
def k0_off2220 (i : grid0.Coords) : Fin 3 → Nat :=
  let c1_i32_371 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v619 : BitVec 32 := Scalar.subi c1_i32_371 v9
  let arg1 : BitVec 32 := BitVec.ofNat 32 (i 1).val
  let c2_i32_368 : BitVec 32 := 2#32
  let v615 : BitVec 32 := Scalar.muli arg1 c2_i32_368
  let c0_i32_369 : BitVec 32 := 0#32
  let v616 : BitVec 32 := Scalar.addi v615 c0_i32_369
  let c256_i32_370 : BitVec 32 := 256#32
  let v617 : BitVec 32 := Scalar.muli v616 c256_i32_370
  let c37_i32 : BitVec 32 := 37#32
  let v618 : BitVec 32 := Scalar.addi v617 c37_i32
  let c8_i32_374 : BitVec 32 := 8#32
  let v623 : BitVec 32 := Scalar.muli v618 c8_i32_374
  let v624 : BitVec 32 := v623
  let c0_i32_375 : BitVec 32 := 0#32
  ![v619.toNat, v624.toNat, 0]
def k0_off2221 (v621 : BitVec 32) : Fin 2 → Nat :=
  let v622 : BitVec 32 := v621
  let c0_i32_376 : BitVec 32 := 0#32
  ![v622.toNat, 0]

def k0_chk551 (i : grid0.Coords) (v621 : BitVec 32) : Prop :=
  (∀ (k0_h3 : k0_cond3 i = 1#1), 8 ∣ (k0_mult1101 v621).toNat) ∧
  (∀ (k0_h3 : k0_cond3 i = 1#1), ∀ a, (k0_off2221 v621) a + S8x128.size a ≤ S131072x128.size a)
theorem k0_mult1101_dvd : ∀ (i : grid0.Coords) (v621 : BitVec 32) (k0_hw551 : k0_chk551 i v621), ∀ (k0_h3 : k0_cond3 i = 1#1), 8 ∣ (k0_mult1101 v621).toNat := fun i v621 k0_hw551 k0_h3 => k0_hw551.1 k0_h3
theorem k0_off2221_inb : ∀ (i : grid0.Coords) (v621 : BitVec 32) (k0_hw551 : k0_chk551 i v621), ∀ (k0_h3 : k0_cond3 i = 1#1), ∀ a, (k0_off2221 v621) a + S8x128.size a ≤ S131072x128.size a := fun i v621 k0_hw551 k0_h3 => k0_hw551.2 k0_h3

def k0_off2222 (i : grid0.Coords) : Fin 3 → Nat :=
  let c0_381 : Index := 0#32
  let c0_382 : Index := 0#32
  let arg1 : BitVec 32 := BitVec.ofNat 32 (i 1).val
  let c2_i32_377 : BitVec 32 := 2#32
  let v630 : BitVec 32 := Scalar.muli arg1 c2_i32_377
  let c0_i32_378 : BitVec 32 := 0#32
  let v631 : BitVec 32 := Scalar.addi v630 c0_i32_378
  let c256_i32_379 : BitVec 32 := 256#32
  let v632 : BitVec 32 := Scalar.muli v631 c256_i32_379
  let c38_i32 : BitVec 32 := 38#32
  let v633 : BitVec 32 := Scalar.addi v632 c38_i32
  let v635 : Index := Scalar.indexCast v633
  ![0, 0, v635.toNat]
def k0_mult1103 (v636 : BitVec 32) : BitVec 32 :=
  v636

def k0_mult1104 (i : grid0.Coords) : BitVec 32 :=
  let arg1 : BitVec 32 := BitVec.ofNat 32 (i 1).val
  let c2_i32_377 : BitVec 32 := 2#32
  let v630 : BitVec 32 := Scalar.muli arg1 c2_i32_377
  let c0_i32_378 : BitVec 32 := 0#32
  let v631 : BitVec 32 := Scalar.addi v630 c0_i32_378
  let c256_i32_379 : BitVec 32 := 256#32
  let v632 : BitVec 32 := Scalar.muli v631 c256_i32_379
  let c38_i32 : BitVec 32 := 38#32
  let v633 : BitVec 32 := Scalar.addi v632 c38_i32
  let c8_i32_383 : BitVec 32 := 8#32
  let v638 : BitVec 32 := Scalar.muli v633 c8_i32_383
  v638
def k0_off2223 (i : grid0.Coords) : Fin 1 → Nat :=
  let c1_i32_380 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v634 : BitVec 32 := Scalar.subi c1_i32_380 v9
  ![v634.toNat]
def k0_off2224 (i : grid0.Coords) : Fin 3 → Nat :=
  let c1_i32_380 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v634 : BitVec 32 := Scalar.subi c1_i32_380 v9
  let arg1 : BitVec 32 := BitVec.ofNat 32 (i 1).val
  let c2_i32_377 : BitVec 32 := 2#32
  let v630 : BitVec 32 := Scalar.muli arg1 c2_i32_377
  let c0_i32_378 : BitVec 32 := 0#32
  let v631 : BitVec 32 := Scalar.addi v630 c0_i32_378
  let c256_i32_379 : BitVec 32 := 256#32
  let v632 : BitVec 32 := Scalar.muli v631 c256_i32_379
  let c38_i32 : BitVec 32 := 38#32
  let v633 : BitVec 32 := Scalar.addi v632 c38_i32
  let c8_i32_383 : BitVec 32 := 8#32
  let v638 : BitVec 32 := Scalar.muli v633 c8_i32_383
  let v639 : BitVec 32 := v638
  let c0_i32_384 : BitVec 32 := 0#32
  ![v634.toNat, v639.toNat, 0]
def k0_off2225 (v636 : BitVec 32) : Fin 2 → Nat :=
  let v637 : BitVec 32 := v636
  let c0_i32_385 : BitVec 32 := 0#32
  ![v637.toNat, 0]

def k0_chk552 (i : grid0.Coords) (v636 : BitVec 32) : Prop :=
  (∀ (k0_h3 : k0_cond3 i = 1#1), 8 ∣ (k0_mult1103 v636).toNat) ∧
  (∀ (k0_h3 : k0_cond3 i = 1#1), ∀ a, (k0_off2225 v636) a + S8x128.size a ≤ S131072x128.size a)
theorem k0_mult1103_dvd : ∀ (i : grid0.Coords) (v636 : BitVec 32) (k0_hw552 : k0_chk552 i v636), ∀ (k0_h3 : k0_cond3 i = 1#1), 8 ∣ (k0_mult1103 v636).toNat := fun i v636 k0_hw552 k0_h3 => k0_hw552.1 k0_h3
theorem k0_off2225_inb : ∀ (i : grid0.Coords) (v636 : BitVec 32) (k0_hw552 : k0_chk552 i v636), ∀ (k0_h3 : k0_cond3 i = 1#1), ∀ a, (k0_off2225 v636) a + S8x128.size a ≤ S131072x128.size a := fun i v636 k0_hw552 k0_h3 => k0_hw552.2 k0_h3

def k0_off2226 (i : grid0.Coords) : Fin 3 → Nat :=
  let c0_390 : Index := 0#32
  let c0_391 : Index := 0#32
  let arg1 : BitVec 32 := BitVec.ofNat 32 (i 1).val
  let c2_i32_386 : BitVec 32 := 2#32
  let v645 : BitVec 32 := Scalar.muli arg1 c2_i32_386
  let c0_i32_387 : BitVec 32 := 0#32
  let v646 : BitVec 32 := Scalar.addi v645 c0_i32_387
  let c256_i32_388 : BitVec 32 := 256#32
  let v647 : BitVec 32 := Scalar.muli v646 c256_i32_388
  let c39_i32 : BitVec 32 := 39#32
  let v648 : BitVec 32 := Scalar.addi v647 c39_i32
  let v650 : Index := Scalar.indexCast v648
  ![0, 0, v650.toNat]
def k0_mult1105 (v651 : BitVec 32) : BitVec 32 :=
  v651

def k0_mult1106 (i : grid0.Coords) : BitVec 32 :=
  let arg1 : BitVec 32 := BitVec.ofNat 32 (i 1).val
  let c2_i32_386 : BitVec 32 := 2#32
  let v645 : BitVec 32 := Scalar.muli arg1 c2_i32_386
  let c0_i32_387 : BitVec 32 := 0#32
  let v646 : BitVec 32 := Scalar.addi v645 c0_i32_387
  let c256_i32_388 : BitVec 32 := 256#32
  let v647 : BitVec 32 := Scalar.muli v646 c256_i32_388
  let c39_i32 : BitVec 32 := 39#32
  let v648 : BitVec 32 := Scalar.addi v647 c39_i32
  let c8_i32_392 : BitVec 32 := 8#32
  let v653 : BitVec 32 := Scalar.muli v648 c8_i32_392
  v653
def k0_off2227 (i : grid0.Coords) : Fin 1 → Nat :=
  let c1_i32_389 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v649 : BitVec 32 := Scalar.subi c1_i32_389 v9
  ![v649.toNat]
def k0_off2228 (i : grid0.Coords) : Fin 3 → Nat :=
  let c1_i32_389 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v649 : BitVec 32 := Scalar.subi c1_i32_389 v9
  let arg1 : BitVec 32 := BitVec.ofNat 32 (i 1).val
  let c2_i32_386 : BitVec 32 := 2#32
  let v645 : BitVec 32 := Scalar.muli arg1 c2_i32_386
  let c0_i32_387 : BitVec 32 := 0#32
  let v646 : BitVec 32 := Scalar.addi v645 c0_i32_387
  let c256_i32_388 : BitVec 32 := 256#32
  let v647 : BitVec 32 := Scalar.muli v646 c256_i32_388
  let c39_i32 : BitVec 32 := 39#32
  let v648 : BitVec 32 := Scalar.addi v647 c39_i32
  let c8_i32_392 : BitVec 32 := 8#32
  let v653 : BitVec 32 := Scalar.muli v648 c8_i32_392
  let v654 : BitVec 32 := v653
  let c0_i32_393 : BitVec 32 := 0#32
  ![v649.toNat, v654.toNat, 0]
def k0_off2229 (v651 : BitVec 32) : Fin 2 → Nat :=
  let v652 : BitVec 32 := v651
  let c0_i32_394 : BitVec 32 := 0#32
  ![v652.toNat, 0]

def k0_chk553 (i : grid0.Coords) (v651 : BitVec 32) : Prop :=
  (∀ (k0_h3 : k0_cond3 i = 1#1), 8 ∣ (k0_mult1105 v651).toNat) ∧
  (∀ (k0_h3 : k0_cond3 i = 1#1), ∀ a, (k0_off2229 v651) a + S8x128.size a ≤ S131072x128.size a)
theorem k0_mult1105_dvd : ∀ (i : grid0.Coords) (v651 : BitVec 32) (k0_hw553 : k0_chk553 i v651), ∀ (k0_h3 : k0_cond3 i = 1#1), 8 ∣ (k0_mult1105 v651).toNat := fun i v651 k0_hw553 k0_h3 => k0_hw553.1 k0_h3
theorem k0_off2229_inb : ∀ (i : grid0.Coords) (v651 : BitVec 32) (k0_hw553 : k0_chk553 i v651), ∀ (k0_h3 : k0_cond3 i = 1#1), ∀ a, (k0_off2229 v651) a + S8x128.size a ≤ S131072x128.size a := fun i v651 k0_hw553 k0_h3 => k0_hw553.2 k0_h3

def k0_off2230 (i : grid0.Coords) : Fin 3 → Nat :=
  let c0_399 : Index := 0#32
  let c0_400 : Index := 0#32
  let arg1 : BitVec 32 := BitVec.ofNat 32 (i 1).val
  let c2_i32_395 : BitVec 32 := 2#32
  let v660 : BitVec 32 := Scalar.muli arg1 c2_i32_395
  let c0_i32_396 : BitVec 32 := 0#32
  let v661 : BitVec 32 := Scalar.addi v660 c0_i32_396
  let c256_i32_397 : BitVec 32 := 256#32
  let v662 : BitVec 32 := Scalar.muli v661 c256_i32_397
  let c40_i32 : BitVec 32 := 40#32
  let v663 : BitVec 32 := Scalar.addi v662 c40_i32
  let v665 : Index := Scalar.indexCast v663
  ![0, 0, v665.toNat]
def k0_mult1107 (v666 : BitVec 32) : BitVec 32 :=
  v666

def k0_mult1108 (i : grid0.Coords) : BitVec 32 :=
  let arg1 : BitVec 32 := BitVec.ofNat 32 (i 1).val
  let c2_i32_395 : BitVec 32 := 2#32
  let v660 : BitVec 32 := Scalar.muli arg1 c2_i32_395
  let c0_i32_396 : BitVec 32 := 0#32
  let v661 : BitVec 32 := Scalar.addi v660 c0_i32_396
  let c256_i32_397 : BitVec 32 := 256#32
  let v662 : BitVec 32 := Scalar.muli v661 c256_i32_397
  let c40_i32 : BitVec 32 := 40#32
  let v663 : BitVec 32 := Scalar.addi v662 c40_i32
  let c8_i32_401 : BitVec 32 := 8#32
  let v668 : BitVec 32 := Scalar.muli v663 c8_i32_401
  v668
def k0_off2231 (i : grid0.Coords) : Fin 1 → Nat :=
  let c1_i32_398 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v664 : BitVec 32 := Scalar.subi c1_i32_398 v9
  ![v664.toNat]
def k0_off2232 (i : grid0.Coords) : Fin 3 → Nat :=
  let c1_i32_398 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v664 : BitVec 32 := Scalar.subi c1_i32_398 v9
  let arg1 : BitVec 32 := BitVec.ofNat 32 (i 1).val
  let c2_i32_395 : BitVec 32 := 2#32
  let v660 : BitVec 32 := Scalar.muli arg1 c2_i32_395
  let c0_i32_396 : BitVec 32 := 0#32
  let v661 : BitVec 32 := Scalar.addi v660 c0_i32_396
  let c256_i32_397 : BitVec 32 := 256#32
  let v662 : BitVec 32 := Scalar.muli v661 c256_i32_397
  let c40_i32 : BitVec 32 := 40#32
  let v663 : BitVec 32 := Scalar.addi v662 c40_i32
  let c8_i32_401 : BitVec 32 := 8#32
  let v668 : BitVec 32 := Scalar.muli v663 c8_i32_401
  let v669 : BitVec 32 := v668
  let c0_i32_402 : BitVec 32 := 0#32
  ![v664.toNat, v669.toNat, 0]
def k0_off2233 (v666 : BitVec 32) : Fin 2 → Nat :=
  let v667 : BitVec 32 := v666
  let c0_i32_403 : BitVec 32 := 0#32
  ![v667.toNat, 0]

def k0_chk554 (i : grid0.Coords) (v666 : BitVec 32) : Prop :=
  (∀ (k0_h3 : k0_cond3 i = 1#1), 8 ∣ (k0_mult1107 v666).toNat) ∧
  (∀ (k0_h3 : k0_cond3 i = 1#1), ∀ a, (k0_off2233 v666) a + S8x128.size a ≤ S131072x128.size a)
theorem k0_mult1107_dvd : ∀ (i : grid0.Coords) (v666 : BitVec 32) (k0_hw554 : k0_chk554 i v666), ∀ (k0_h3 : k0_cond3 i = 1#1), 8 ∣ (k0_mult1107 v666).toNat := fun i v666 k0_hw554 k0_h3 => k0_hw554.1 k0_h3
theorem k0_off2233_inb : ∀ (i : grid0.Coords) (v666 : BitVec 32) (k0_hw554 : k0_chk554 i v666), ∀ (k0_h3 : k0_cond3 i = 1#1), ∀ a, (k0_off2233 v666) a + S8x128.size a ≤ S131072x128.size a := fun i v666 k0_hw554 k0_h3 => k0_hw554.2 k0_h3

def k0_off2234 (i : grid0.Coords) : Fin 3 → Nat :=
  let c0_408 : Index := 0#32
  let c0_409 : Index := 0#32
  let arg1 : BitVec 32 := BitVec.ofNat 32 (i 1).val
  let c2_i32_404 : BitVec 32 := 2#32
  let v675 : BitVec 32 := Scalar.muli arg1 c2_i32_404
  let c0_i32_405 : BitVec 32 := 0#32
  let v676 : BitVec 32 := Scalar.addi v675 c0_i32_405
  let c256_i32_406 : BitVec 32 := 256#32
  let v677 : BitVec 32 := Scalar.muli v676 c256_i32_406
  let c41_i32 : BitVec 32 := 41#32
  let v678 : BitVec 32 := Scalar.addi v677 c41_i32
  let v680 : Index := Scalar.indexCast v678
  ![0, 0, v680.toNat]
def k0_mult1109 (v681 : BitVec 32) : BitVec 32 :=
  v681

def k0_mult1110 (i : grid0.Coords) : BitVec 32 :=
  let arg1 : BitVec 32 := BitVec.ofNat 32 (i 1).val
  let c2_i32_404 : BitVec 32 := 2#32
  let v675 : BitVec 32 := Scalar.muli arg1 c2_i32_404
  let c0_i32_405 : BitVec 32 := 0#32
  let v676 : BitVec 32 := Scalar.addi v675 c0_i32_405
  let c256_i32_406 : BitVec 32 := 256#32
  let v677 : BitVec 32 := Scalar.muli v676 c256_i32_406
  let c41_i32 : BitVec 32 := 41#32
  let v678 : BitVec 32 := Scalar.addi v677 c41_i32
  let c8_i32_410 : BitVec 32 := 8#32
  let v683 : BitVec 32 := Scalar.muli v678 c8_i32_410
  v683
def k0_off2235 (i : grid0.Coords) : Fin 1 → Nat :=
  let c1_i32_407 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v679 : BitVec 32 := Scalar.subi c1_i32_407 v9
  ![v679.toNat]
def k0_off2236 (i : grid0.Coords) : Fin 3 → Nat :=
  let c1_i32_407 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v679 : BitVec 32 := Scalar.subi c1_i32_407 v9
  let arg1 : BitVec 32 := BitVec.ofNat 32 (i 1).val
  let c2_i32_404 : BitVec 32 := 2#32
  let v675 : BitVec 32 := Scalar.muli arg1 c2_i32_404
  let c0_i32_405 : BitVec 32 := 0#32
  let v676 : BitVec 32 := Scalar.addi v675 c0_i32_405
  let c256_i32_406 : BitVec 32 := 256#32
  let v677 : BitVec 32 := Scalar.muli v676 c256_i32_406
  let c41_i32 : BitVec 32 := 41#32
  let v678 : BitVec 32 := Scalar.addi v677 c41_i32
  let c8_i32_410 : BitVec 32 := 8#32
  let v683 : BitVec 32 := Scalar.muli v678 c8_i32_410
  let v684 : BitVec 32 := v683
  let c0_i32_411 : BitVec 32 := 0#32
  ![v679.toNat, v684.toNat, 0]
def k0_off2237 (v681 : BitVec 32) : Fin 2 → Nat :=
  let v682 : BitVec 32 := v681
  let c0_i32_412 : BitVec 32 := 0#32
  ![v682.toNat, 0]

def k0_chk555 (i : grid0.Coords) (v681 : BitVec 32) : Prop :=
  (∀ (k0_h3 : k0_cond3 i = 1#1), 8 ∣ (k0_mult1109 v681).toNat) ∧
  (∀ (k0_h3 : k0_cond3 i = 1#1), ∀ a, (k0_off2237 v681) a + S8x128.size a ≤ S131072x128.size a)
theorem k0_mult1109_dvd : ∀ (i : grid0.Coords) (v681 : BitVec 32) (k0_hw555 : k0_chk555 i v681), ∀ (k0_h3 : k0_cond3 i = 1#1), 8 ∣ (k0_mult1109 v681).toNat := fun i v681 k0_hw555 k0_h3 => k0_hw555.1 k0_h3
theorem k0_off2237_inb : ∀ (i : grid0.Coords) (v681 : BitVec 32) (k0_hw555 : k0_chk555 i v681), ∀ (k0_h3 : k0_cond3 i = 1#1), ∀ a, (k0_off2237 v681) a + S8x128.size a ≤ S131072x128.size a := fun i v681 k0_hw555 k0_h3 => k0_hw555.2 k0_h3

def k0_off2238 (i : grid0.Coords) : Fin 3 → Nat :=
  let c0_417 : Index := 0#32
  let c0_418 : Index := 0#32
  let arg1 : BitVec 32 := BitVec.ofNat 32 (i 1).val
  let c2_i32_413 : BitVec 32 := 2#32
  let v690 : BitVec 32 := Scalar.muli arg1 c2_i32_413
  let c0_i32_414 : BitVec 32 := 0#32
  let v691 : BitVec 32 := Scalar.addi v690 c0_i32_414
  let c256_i32_415 : BitVec 32 := 256#32
  let v692 : BitVec 32 := Scalar.muli v691 c256_i32_415
  let c42_i32 : BitVec 32 := 42#32
  let v693 : BitVec 32 := Scalar.addi v692 c42_i32
  let v695 : Index := Scalar.indexCast v693
  ![0, 0, v695.toNat]
def k0_mult1111 (v696 : BitVec 32) : BitVec 32 :=
  v696

def k0_mult1112 (i : grid0.Coords) : BitVec 32 :=
  let arg1 : BitVec 32 := BitVec.ofNat 32 (i 1).val
  let c2_i32_413 : BitVec 32 := 2#32
  let v690 : BitVec 32 := Scalar.muli arg1 c2_i32_413
  let c0_i32_414 : BitVec 32 := 0#32
  let v691 : BitVec 32 := Scalar.addi v690 c0_i32_414
  let c256_i32_415 : BitVec 32 := 256#32
  let v692 : BitVec 32 := Scalar.muli v691 c256_i32_415
  let c42_i32 : BitVec 32 := 42#32
  let v693 : BitVec 32 := Scalar.addi v692 c42_i32
  let c8_i32_419 : BitVec 32 := 8#32
  let v698 : BitVec 32 := Scalar.muli v693 c8_i32_419
  v698
def k0_off2239 (i : grid0.Coords) : Fin 1 → Nat :=
  let c1_i32_416 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v694 : BitVec 32 := Scalar.subi c1_i32_416 v9
  ![v694.toNat]
def k0_off2240 (i : grid0.Coords) : Fin 3 → Nat :=
  let c1_i32_416 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v694 : BitVec 32 := Scalar.subi c1_i32_416 v9
  let arg1 : BitVec 32 := BitVec.ofNat 32 (i 1).val
  let c2_i32_413 : BitVec 32 := 2#32
  let v690 : BitVec 32 := Scalar.muli arg1 c2_i32_413
  let c0_i32_414 : BitVec 32 := 0#32
  let v691 : BitVec 32 := Scalar.addi v690 c0_i32_414
  let c256_i32_415 : BitVec 32 := 256#32
  let v692 : BitVec 32 := Scalar.muli v691 c256_i32_415
  let c42_i32 : BitVec 32 := 42#32
  let v693 : BitVec 32 := Scalar.addi v692 c42_i32
  let c8_i32_419 : BitVec 32 := 8#32
  let v698 : BitVec 32 := Scalar.muli v693 c8_i32_419
  let v699 : BitVec 32 := v698
  let c0_i32_420 : BitVec 32 := 0#32
  ![v694.toNat, v699.toNat, 0]
def k0_off2241 (v696 : BitVec 32) : Fin 2 → Nat :=
  let v697 : BitVec 32 := v696
  let c0_i32_421 : BitVec 32 := 0#32
  ![v697.toNat, 0]

def k0_chk556 (i : grid0.Coords) (v696 : BitVec 32) : Prop :=
  (∀ (k0_h3 : k0_cond3 i = 1#1), 8 ∣ (k0_mult1111 v696).toNat) ∧
  (∀ (k0_h3 : k0_cond3 i = 1#1), ∀ a, (k0_off2241 v696) a + S8x128.size a ≤ S131072x128.size a)
theorem k0_mult1111_dvd : ∀ (i : grid0.Coords) (v696 : BitVec 32) (k0_hw556 : k0_chk556 i v696), ∀ (k0_h3 : k0_cond3 i = 1#1), 8 ∣ (k0_mult1111 v696).toNat := fun i v696 k0_hw556 k0_h3 => k0_hw556.1 k0_h3
theorem k0_off2241_inb : ∀ (i : grid0.Coords) (v696 : BitVec 32) (k0_hw556 : k0_chk556 i v696), ∀ (k0_h3 : k0_cond3 i = 1#1), ∀ a, (k0_off2241 v696) a + S8x128.size a ≤ S131072x128.size a := fun i v696 k0_hw556 k0_h3 => k0_hw556.2 k0_h3

def k0_off2242 (i : grid0.Coords) : Fin 3 → Nat :=
  let c0_426 : Index := 0#32
  let c0_427 : Index := 0#32
  let arg1 : BitVec 32 := BitVec.ofNat 32 (i 1).val
  let c2_i32_422 : BitVec 32 := 2#32
  let v705 : BitVec 32 := Scalar.muli arg1 c2_i32_422
  let c0_i32_423 : BitVec 32 := 0#32
  let v706 : BitVec 32 := Scalar.addi v705 c0_i32_423
  let c256_i32_424 : BitVec 32 := 256#32
  let v707 : BitVec 32 := Scalar.muli v706 c256_i32_424
  let c43_i32 : BitVec 32 := 43#32
  let v708 : BitVec 32 := Scalar.addi v707 c43_i32
  let v710 : Index := Scalar.indexCast v708
  ![0, 0, v710.toNat]
def k0_mult1113 (v711 : BitVec 32) : BitVec 32 :=
  v711

def k0_mult1114 (i : grid0.Coords) : BitVec 32 :=
  let arg1 : BitVec 32 := BitVec.ofNat 32 (i 1).val
  let c2_i32_422 : BitVec 32 := 2#32
  let v705 : BitVec 32 := Scalar.muli arg1 c2_i32_422
  let c0_i32_423 : BitVec 32 := 0#32
  let v706 : BitVec 32 := Scalar.addi v705 c0_i32_423
  let c256_i32_424 : BitVec 32 := 256#32
  let v707 : BitVec 32 := Scalar.muli v706 c256_i32_424
  let c43_i32 : BitVec 32 := 43#32
  let v708 : BitVec 32 := Scalar.addi v707 c43_i32
  let c8_i32_428 : BitVec 32 := 8#32
  let v713 : BitVec 32 := Scalar.muli v708 c8_i32_428
  v713
def k0_off2243 (i : grid0.Coords) : Fin 1 → Nat :=
  let c1_i32_425 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v709 : BitVec 32 := Scalar.subi c1_i32_425 v9
  ![v709.toNat]
def k0_off2244 (i : grid0.Coords) : Fin 3 → Nat :=
  let c1_i32_425 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v709 : BitVec 32 := Scalar.subi c1_i32_425 v9
  let arg1 : BitVec 32 := BitVec.ofNat 32 (i 1).val
  let c2_i32_422 : BitVec 32 := 2#32
  let v705 : BitVec 32 := Scalar.muli arg1 c2_i32_422
  let c0_i32_423 : BitVec 32 := 0#32
  let v706 : BitVec 32 := Scalar.addi v705 c0_i32_423
  let c256_i32_424 : BitVec 32 := 256#32
  let v707 : BitVec 32 := Scalar.muli v706 c256_i32_424
  let c43_i32 : BitVec 32 := 43#32
  let v708 : BitVec 32 := Scalar.addi v707 c43_i32
  let c8_i32_428 : BitVec 32 := 8#32
  let v713 : BitVec 32 := Scalar.muli v708 c8_i32_428
  let v714 : BitVec 32 := v713
  let c0_i32_429 : BitVec 32 := 0#32
  ![v709.toNat, v714.toNat, 0]
def k0_off2245 (v711 : BitVec 32) : Fin 2 → Nat :=
  let v712 : BitVec 32 := v711
  let c0_i32_430 : BitVec 32 := 0#32
  ![v712.toNat, 0]

def k0_chk557 (i : grid0.Coords) (v711 : BitVec 32) : Prop :=
  (∀ (k0_h3 : k0_cond3 i = 1#1), 8 ∣ (k0_mult1113 v711).toNat) ∧
  (∀ (k0_h3 : k0_cond3 i = 1#1), ∀ a, (k0_off2245 v711) a + S8x128.size a ≤ S131072x128.size a)
theorem k0_mult1113_dvd : ∀ (i : grid0.Coords) (v711 : BitVec 32) (k0_hw557 : k0_chk557 i v711), ∀ (k0_h3 : k0_cond3 i = 1#1), 8 ∣ (k0_mult1113 v711).toNat := fun i v711 k0_hw557 k0_h3 => k0_hw557.1 k0_h3
theorem k0_off2245_inb : ∀ (i : grid0.Coords) (v711 : BitVec 32) (k0_hw557 : k0_chk557 i v711), ∀ (k0_h3 : k0_cond3 i = 1#1), ∀ a, (k0_off2245 v711) a + S8x128.size a ≤ S131072x128.size a := fun i v711 k0_hw557 k0_h3 => k0_hw557.2 k0_h3

def k0_off2246 (i : grid0.Coords) : Fin 3 → Nat :=
  let c0_435 : Index := 0#32
  let c0_436 : Index := 0#32
  let arg1 : BitVec 32 := BitVec.ofNat 32 (i 1).val
  let c2_i32_431 : BitVec 32 := 2#32
  let v720 : BitVec 32 := Scalar.muli arg1 c2_i32_431
  let c0_i32_432 : BitVec 32 := 0#32
  let v721 : BitVec 32 := Scalar.addi v720 c0_i32_432
  let c256_i32_433 : BitVec 32 := 256#32
  let v722 : BitVec 32 := Scalar.muli v721 c256_i32_433
  let c44_i32 : BitVec 32 := 44#32
  let v723 : BitVec 32 := Scalar.addi v722 c44_i32
  let v725 : Index := Scalar.indexCast v723
  ![0, 0, v725.toNat]
def k0_mult1115 (v726 : BitVec 32) : BitVec 32 :=
  v726

def k0_mult1116 (i : grid0.Coords) : BitVec 32 :=
  let arg1 : BitVec 32 := BitVec.ofNat 32 (i 1).val
  let c2_i32_431 : BitVec 32 := 2#32
  let v720 : BitVec 32 := Scalar.muli arg1 c2_i32_431
  let c0_i32_432 : BitVec 32 := 0#32
  let v721 : BitVec 32 := Scalar.addi v720 c0_i32_432
  let c256_i32_433 : BitVec 32 := 256#32
  let v722 : BitVec 32 := Scalar.muli v721 c256_i32_433
  let c44_i32 : BitVec 32 := 44#32
  let v723 : BitVec 32 := Scalar.addi v722 c44_i32
  let c8_i32_437 : BitVec 32 := 8#32
  let v728 : BitVec 32 := Scalar.muli v723 c8_i32_437
  v728
def k0_off2247 (i : grid0.Coords) : Fin 1 → Nat :=
  let c1_i32_434 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v724 : BitVec 32 := Scalar.subi c1_i32_434 v9
  ![v724.toNat]
def k0_off2248 (i : grid0.Coords) : Fin 3 → Nat :=
  let c1_i32_434 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v724 : BitVec 32 := Scalar.subi c1_i32_434 v9
  let arg1 : BitVec 32 := BitVec.ofNat 32 (i 1).val
  let c2_i32_431 : BitVec 32 := 2#32
  let v720 : BitVec 32 := Scalar.muli arg1 c2_i32_431
  let c0_i32_432 : BitVec 32 := 0#32
  let v721 : BitVec 32 := Scalar.addi v720 c0_i32_432
  let c256_i32_433 : BitVec 32 := 256#32
  let v722 : BitVec 32 := Scalar.muli v721 c256_i32_433
  let c44_i32 : BitVec 32 := 44#32
  let v723 : BitVec 32 := Scalar.addi v722 c44_i32
  let c8_i32_437 : BitVec 32 := 8#32
  let v728 : BitVec 32 := Scalar.muli v723 c8_i32_437
  let v729 : BitVec 32 := v728
  let c0_i32_438 : BitVec 32 := 0#32
  ![v724.toNat, v729.toNat, 0]
def k0_off2249 (v726 : BitVec 32) : Fin 2 → Nat :=
  let v727 : BitVec 32 := v726
  let c0_i32_439 : BitVec 32 := 0#32
  ![v727.toNat, 0]

def k0_chk558 (i : grid0.Coords) (v726 : BitVec 32) : Prop :=
  (∀ (k0_h3 : k0_cond3 i = 1#1), 8 ∣ (k0_mult1115 v726).toNat) ∧
  (∀ (k0_h3 : k0_cond3 i = 1#1), ∀ a, (k0_off2249 v726) a + S8x128.size a ≤ S131072x128.size a)
theorem k0_mult1115_dvd : ∀ (i : grid0.Coords) (v726 : BitVec 32) (k0_hw558 : k0_chk558 i v726), ∀ (k0_h3 : k0_cond3 i = 1#1), 8 ∣ (k0_mult1115 v726).toNat := fun i v726 k0_hw558 k0_h3 => k0_hw558.1 k0_h3
theorem k0_off2249_inb : ∀ (i : grid0.Coords) (v726 : BitVec 32) (k0_hw558 : k0_chk558 i v726), ∀ (k0_h3 : k0_cond3 i = 1#1), ∀ a, (k0_off2249 v726) a + S8x128.size a ≤ S131072x128.size a := fun i v726 k0_hw558 k0_h3 => k0_hw558.2 k0_h3

def k0_off2250 (i : grid0.Coords) : Fin 3 → Nat :=
  let c0_444 : Index := 0#32
  let c0_445 : Index := 0#32
  let arg1 : BitVec 32 := BitVec.ofNat 32 (i 1).val
  let c2_i32_440 : BitVec 32 := 2#32
  let v735 : BitVec 32 := Scalar.muli arg1 c2_i32_440
  let c0_i32_441 : BitVec 32 := 0#32
  let v736 : BitVec 32 := Scalar.addi v735 c0_i32_441
  let c256_i32_442 : BitVec 32 := 256#32
  let v737 : BitVec 32 := Scalar.muli v736 c256_i32_442
  let c45_i32 : BitVec 32 := 45#32
  let v738 : BitVec 32 := Scalar.addi v737 c45_i32
  let v740 : Index := Scalar.indexCast v738
  ![0, 0, v740.toNat]
def k0_mult1117 (v741 : BitVec 32) : BitVec 32 :=
  v741

def k0_mult1118 (i : grid0.Coords) : BitVec 32 :=
  let arg1 : BitVec 32 := BitVec.ofNat 32 (i 1).val
  let c2_i32_440 : BitVec 32 := 2#32
  let v735 : BitVec 32 := Scalar.muli arg1 c2_i32_440
  let c0_i32_441 : BitVec 32 := 0#32
  let v736 : BitVec 32 := Scalar.addi v735 c0_i32_441
  let c256_i32_442 : BitVec 32 := 256#32
  let v737 : BitVec 32 := Scalar.muli v736 c256_i32_442
  let c45_i32 : BitVec 32 := 45#32
  let v738 : BitVec 32 := Scalar.addi v737 c45_i32
  let c8_i32_446 : BitVec 32 := 8#32
  let v743 : BitVec 32 := Scalar.muli v738 c8_i32_446
  v743
def k0_off2251 (i : grid0.Coords) : Fin 1 → Nat :=
  let c1_i32_443 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v739 : BitVec 32 := Scalar.subi c1_i32_443 v9
  ![v739.toNat]
def k0_off2252 (i : grid0.Coords) : Fin 3 → Nat :=
  let c1_i32_443 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v739 : BitVec 32 := Scalar.subi c1_i32_443 v9
  let arg1 : BitVec 32 := BitVec.ofNat 32 (i 1).val
  let c2_i32_440 : BitVec 32 := 2#32
  let v735 : BitVec 32 := Scalar.muli arg1 c2_i32_440
  let c0_i32_441 : BitVec 32 := 0#32
  let v736 : BitVec 32 := Scalar.addi v735 c0_i32_441
  let c256_i32_442 : BitVec 32 := 256#32
  let v737 : BitVec 32 := Scalar.muli v736 c256_i32_442
  let c45_i32 : BitVec 32 := 45#32
  let v738 : BitVec 32 := Scalar.addi v737 c45_i32
  let c8_i32_446 : BitVec 32 := 8#32
  let v743 : BitVec 32 := Scalar.muli v738 c8_i32_446
  let v744 : BitVec 32 := v743
  let c0_i32_447 : BitVec 32 := 0#32
  ![v739.toNat, v744.toNat, 0]
def k0_off2253 (v741 : BitVec 32) : Fin 2 → Nat :=
  let v742 : BitVec 32 := v741
  let c0_i32_448 : BitVec 32 := 0#32
  ![v742.toNat, 0]

def k0_chk559 (i : grid0.Coords) (v741 : BitVec 32) : Prop :=
  (∀ (k0_h3 : k0_cond3 i = 1#1), 8 ∣ (k0_mult1117 v741).toNat) ∧
  (∀ (k0_h3 : k0_cond3 i = 1#1), ∀ a, (k0_off2253 v741) a + S8x128.size a ≤ S131072x128.size a)
theorem k0_mult1117_dvd : ∀ (i : grid0.Coords) (v741 : BitVec 32) (k0_hw559 : k0_chk559 i v741), ∀ (k0_h3 : k0_cond3 i = 1#1), 8 ∣ (k0_mult1117 v741).toNat := fun i v741 k0_hw559 k0_h3 => k0_hw559.1 k0_h3
theorem k0_off2253_inb : ∀ (i : grid0.Coords) (v741 : BitVec 32) (k0_hw559 : k0_chk559 i v741), ∀ (k0_h3 : k0_cond3 i = 1#1), ∀ a, (k0_off2253 v741) a + S8x128.size a ≤ S131072x128.size a := fun i v741 k0_hw559 k0_h3 => k0_hw559.2 k0_h3

def k0_off2254 (i : grid0.Coords) : Fin 3 → Nat :=
  let c0_453 : Index := 0#32
  let c0_454 : Index := 0#32
  let arg1 : BitVec 32 := BitVec.ofNat 32 (i 1).val
  let c2_i32_449 : BitVec 32 := 2#32
  let v750 : BitVec 32 := Scalar.muli arg1 c2_i32_449
  let c0_i32_450 : BitVec 32 := 0#32
  let v751 : BitVec 32 := Scalar.addi v750 c0_i32_450
  let c256_i32_451 : BitVec 32 := 256#32
  let v752 : BitVec 32 := Scalar.muli v751 c256_i32_451
  let c46_i32 : BitVec 32 := 46#32
  let v753 : BitVec 32 := Scalar.addi v752 c46_i32
  let v755 : Index := Scalar.indexCast v753
  ![0, 0, v755.toNat]
def k0_mult1119 (v756 : BitVec 32) : BitVec 32 :=
  v756

def k0_mult1120 (i : grid0.Coords) : BitVec 32 :=
  let arg1 : BitVec 32 := BitVec.ofNat 32 (i 1).val
  let c2_i32_449 : BitVec 32 := 2#32
  let v750 : BitVec 32 := Scalar.muli arg1 c2_i32_449
  let c0_i32_450 : BitVec 32 := 0#32
  let v751 : BitVec 32 := Scalar.addi v750 c0_i32_450
  let c256_i32_451 : BitVec 32 := 256#32
  let v752 : BitVec 32 := Scalar.muli v751 c256_i32_451
  let c46_i32 : BitVec 32 := 46#32
  let v753 : BitVec 32 := Scalar.addi v752 c46_i32
  let c8_i32_455 : BitVec 32 := 8#32
  let v758 : BitVec 32 := Scalar.muli v753 c8_i32_455
  v758
def k0_off2255 (i : grid0.Coords) : Fin 1 → Nat :=
  let c1_i32_452 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v754 : BitVec 32 := Scalar.subi c1_i32_452 v9
  ![v754.toNat]
def k0_off2256 (i : grid0.Coords) : Fin 3 → Nat :=
  let c1_i32_452 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v754 : BitVec 32 := Scalar.subi c1_i32_452 v9
  let arg1 : BitVec 32 := BitVec.ofNat 32 (i 1).val
  let c2_i32_449 : BitVec 32 := 2#32
  let v750 : BitVec 32 := Scalar.muli arg1 c2_i32_449
  let c0_i32_450 : BitVec 32 := 0#32
  let v751 : BitVec 32 := Scalar.addi v750 c0_i32_450
  let c256_i32_451 : BitVec 32 := 256#32
  let v752 : BitVec 32 := Scalar.muli v751 c256_i32_451
  let c46_i32 : BitVec 32 := 46#32
  let v753 : BitVec 32 := Scalar.addi v752 c46_i32
  let c8_i32_455 : BitVec 32 := 8#32
  let v758 : BitVec 32 := Scalar.muli v753 c8_i32_455
  let v759 : BitVec 32 := v758
  let c0_i32_456 : BitVec 32 := 0#32
  ![v754.toNat, v759.toNat, 0]
def k0_off2257 (v756 : BitVec 32) : Fin 2 → Nat :=
  let v757 : BitVec 32 := v756
  let c0_i32_457 : BitVec 32 := 0#32
  ![v757.toNat, 0]

def k0_chk560 (i : grid0.Coords) (v756 : BitVec 32) : Prop :=
  (∀ (k0_h3 : k0_cond3 i = 1#1), 8 ∣ (k0_mult1119 v756).toNat) ∧
  (∀ (k0_h3 : k0_cond3 i = 1#1), ∀ a, (k0_off2257 v756) a + S8x128.size a ≤ S131072x128.size a)
theorem k0_mult1119_dvd : ∀ (i : grid0.Coords) (v756 : BitVec 32) (k0_hw560 : k0_chk560 i v756), ∀ (k0_h3 : k0_cond3 i = 1#1), 8 ∣ (k0_mult1119 v756).toNat := fun i v756 k0_hw560 k0_h3 => k0_hw560.1 k0_h3
theorem k0_off2257_inb : ∀ (i : grid0.Coords) (v756 : BitVec 32) (k0_hw560 : k0_chk560 i v756), ∀ (k0_h3 : k0_cond3 i = 1#1), ∀ a, (k0_off2257 v756) a + S8x128.size a ≤ S131072x128.size a := fun i v756 k0_hw560 k0_h3 => k0_hw560.2 k0_h3

def k0_off2258 (i : grid0.Coords) : Fin 3 → Nat :=
  let c0_462 : Index := 0#32
  let c0_463 : Index := 0#32
  let arg1 : BitVec 32 := BitVec.ofNat 32 (i 1).val
  let c2_i32_458 : BitVec 32 := 2#32
  let v765 : BitVec 32 := Scalar.muli arg1 c2_i32_458
  let c0_i32_459 : BitVec 32 := 0#32
  let v766 : BitVec 32 := Scalar.addi v765 c0_i32_459
  let c256_i32_460 : BitVec 32 := 256#32
  let v767 : BitVec 32 := Scalar.muli v766 c256_i32_460
  let c47_i32 : BitVec 32 := 47#32
  let v768 : BitVec 32 := Scalar.addi v767 c47_i32
  let v770 : Index := Scalar.indexCast v768
  ![0, 0, v770.toNat]
def k0_mult1121 (v771 : BitVec 32) : BitVec 32 :=
  v771

def k0_mult1122 (i : grid0.Coords) : BitVec 32 :=
  let arg1 : BitVec 32 := BitVec.ofNat 32 (i 1).val
  let c2_i32_458 : BitVec 32 := 2#32
  let v765 : BitVec 32 := Scalar.muli arg1 c2_i32_458
  let c0_i32_459 : BitVec 32 := 0#32
  let v766 : BitVec 32 := Scalar.addi v765 c0_i32_459
  let c256_i32_460 : BitVec 32 := 256#32
  let v767 : BitVec 32 := Scalar.muli v766 c256_i32_460
  let c47_i32 : BitVec 32 := 47#32
  let v768 : BitVec 32 := Scalar.addi v767 c47_i32
  let c8_i32_464 : BitVec 32 := 8#32
  let v773 : BitVec 32 := Scalar.muli v768 c8_i32_464
  v773
def k0_off2259 (i : grid0.Coords) : Fin 1 → Nat :=
  let c1_i32_461 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v769 : BitVec 32 := Scalar.subi c1_i32_461 v9
  ![v769.toNat]
def k0_off2260 (i : grid0.Coords) : Fin 3 → Nat :=
  let c1_i32_461 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v769 : BitVec 32 := Scalar.subi c1_i32_461 v9
  let arg1 : BitVec 32 := BitVec.ofNat 32 (i 1).val
  let c2_i32_458 : BitVec 32 := 2#32
  let v765 : BitVec 32 := Scalar.muli arg1 c2_i32_458
  let c0_i32_459 : BitVec 32 := 0#32
  let v766 : BitVec 32 := Scalar.addi v765 c0_i32_459
  let c256_i32_460 : BitVec 32 := 256#32
  let v767 : BitVec 32 := Scalar.muli v766 c256_i32_460
  let c47_i32 : BitVec 32 := 47#32
  let v768 : BitVec 32 := Scalar.addi v767 c47_i32
  let c8_i32_464 : BitVec 32 := 8#32
  let v773 : BitVec 32 := Scalar.muli v768 c8_i32_464
  let v774 : BitVec 32 := v773
  let c0_i32_465 : BitVec 32 := 0#32
  ![v769.toNat, v774.toNat, 0]
def k0_off2261 (v771 : BitVec 32) : Fin 2 → Nat :=
  let v772 : BitVec 32 := v771
  let c0_i32_466 : BitVec 32 := 0#32
  ![v772.toNat, 0]

def k0_chk561 (i : grid0.Coords) (v771 : BitVec 32) : Prop :=
  (∀ (k0_h3 : k0_cond3 i = 1#1), 8 ∣ (k0_mult1121 v771).toNat) ∧
  (∀ (k0_h3 : k0_cond3 i = 1#1), ∀ a, (k0_off2261 v771) a + S8x128.size a ≤ S131072x128.size a)
theorem k0_mult1121_dvd : ∀ (i : grid0.Coords) (v771 : BitVec 32) (k0_hw561 : k0_chk561 i v771), ∀ (k0_h3 : k0_cond3 i = 1#1), 8 ∣ (k0_mult1121 v771).toNat := fun i v771 k0_hw561 k0_h3 => k0_hw561.1 k0_h3
theorem k0_off2261_inb : ∀ (i : grid0.Coords) (v771 : BitVec 32) (k0_hw561 : k0_chk561 i v771), ∀ (k0_h3 : k0_cond3 i = 1#1), ∀ a, (k0_off2261 v771) a + S8x128.size a ≤ S131072x128.size a := fun i v771 k0_hw561 k0_h3 => k0_hw561.2 k0_h3

def k0_off2262 (i : grid0.Coords) : Fin 3 → Nat :=
  let c0_471 : Index := 0#32
  let c0_472 : Index := 0#32
  let arg1 : BitVec 32 := BitVec.ofNat 32 (i 1).val
  let c2_i32_467 : BitVec 32 := 2#32
  let v780 : BitVec 32 := Scalar.muli arg1 c2_i32_467
  let c0_i32_468 : BitVec 32 := 0#32
  let v781 : BitVec 32 := Scalar.addi v780 c0_i32_468
  let c256_i32_469 : BitVec 32 := 256#32
  let v782 : BitVec 32 := Scalar.muli v781 c256_i32_469
  let c48_i32 : BitVec 32 := 48#32
  let v783 : BitVec 32 := Scalar.addi v782 c48_i32
  let v785 : Index := Scalar.indexCast v783
  ![0, 0, v785.toNat]
def k0_mult1123 (v786 : BitVec 32) : BitVec 32 :=
  v786

def k0_mult1124 (i : grid0.Coords) : BitVec 32 :=
  let arg1 : BitVec 32 := BitVec.ofNat 32 (i 1).val
  let c2_i32_467 : BitVec 32 := 2#32
  let v780 : BitVec 32 := Scalar.muli arg1 c2_i32_467
  let c0_i32_468 : BitVec 32 := 0#32
  let v781 : BitVec 32 := Scalar.addi v780 c0_i32_468
  let c256_i32_469 : BitVec 32 := 256#32
  let v782 : BitVec 32 := Scalar.muli v781 c256_i32_469
  let c48_i32 : BitVec 32 := 48#32
  let v783 : BitVec 32 := Scalar.addi v782 c48_i32
  let c8_i32_473 : BitVec 32 := 8#32
  let v788 : BitVec 32 := Scalar.muli v783 c8_i32_473
  v788
def k0_off2263 (i : grid0.Coords) : Fin 1 → Nat :=
  let c1_i32_470 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v784 : BitVec 32 := Scalar.subi c1_i32_470 v9
  ![v784.toNat]
def k0_off2264 (i : grid0.Coords) : Fin 3 → Nat :=
  let c1_i32_470 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v784 : BitVec 32 := Scalar.subi c1_i32_470 v9
  let arg1 : BitVec 32 := BitVec.ofNat 32 (i 1).val
  let c2_i32_467 : BitVec 32 := 2#32
  let v780 : BitVec 32 := Scalar.muli arg1 c2_i32_467
  let c0_i32_468 : BitVec 32 := 0#32
  let v781 : BitVec 32 := Scalar.addi v780 c0_i32_468
  let c256_i32_469 : BitVec 32 := 256#32
  let v782 : BitVec 32 := Scalar.muli v781 c256_i32_469
  let c48_i32 : BitVec 32 := 48#32
  let v783 : BitVec 32 := Scalar.addi v782 c48_i32
  let c8_i32_473 : BitVec 32 := 8#32
  let v788 : BitVec 32 := Scalar.muli v783 c8_i32_473
  let v789 : BitVec 32 := v788
  let c0_i32_474 : BitVec 32 := 0#32
  ![v784.toNat, v789.toNat, 0]
def k0_off2265 (v786 : BitVec 32) : Fin 2 → Nat :=
  let v787 : BitVec 32 := v786
  let c0_i32_475 : BitVec 32 := 0#32
  ![v787.toNat, 0]

def k0_chk562 (i : grid0.Coords) (v786 : BitVec 32) : Prop :=
  (∀ (k0_h3 : k0_cond3 i = 1#1), 8 ∣ (k0_mult1123 v786).toNat) ∧
  (∀ (k0_h3 : k0_cond3 i = 1#1), ∀ a, (k0_off2265 v786) a + S8x128.size a ≤ S131072x128.size a)
theorem k0_mult1123_dvd : ∀ (i : grid0.Coords) (v786 : BitVec 32) (k0_hw562 : k0_chk562 i v786), ∀ (k0_h3 : k0_cond3 i = 1#1), 8 ∣ (k0_mult1123 v786).toNat := fun i v786 k0_hw562 k0_h3 => k0_hw562.1 k0_h3
theorem k0_off2265_inb : ∀ (i : grid0.Coords) (v786 : BitVec 32) (k0_hw562 : k0_chk562 i v786), ∀ (k0_h3 : k0_cond3 i = 1#1), ∀ a, (k0_off2265 v786) a + S8x128.size a ≤ S131072x128.size a := fun i v786 k0_hw562 k0_h3 => k0_hw562.2 k0_h3

def k0_off2266 (i : grid0.Coords) : Fin 3 → Nat :=
  let c0_480 : Index := 0#32
  let c0_481 : Index := 0#32
  let arg1 : BitVec 32 := BitVec.ofNat 32 (i 1).val
  let c2_i32_476 : BitVec 32 := 2#32
  let v795 : BitVec 32 := Scalar.muli arg1 c2_i32_476
  let c0_i32_477 : BitVec 32 := 0#32
  let v796 : BitVec 32 := Scalar.addi v795 c0_i32_477
  let c256_i32_478 : BitVec 32 := 256#32
  let v797 : BitVec 32 := Scalar.muli v796 c256_i32_478
  let c49_i32 : BitVec 32 := 49#32
  let v798 : BitVec 32 := Scalar.addi v797 c49_i32
  let v800 : Index := Scalar.indexCast v798
  ![0, 0, v800.toNat]
def k0_mult1125 (v801 : BitVec 32) : BitVec 32 :=
  v801

def k0_mult1126 (i : grid0.Coords) : BitVec 32 :=
  let arg1 : BitVec 32 := BitVec.ofNat 32 (i 1).val
  let c2_i32_476 : BitVec 32 := 2#32
  let v795 : BitVec 32 := Scalar.muli arg1 c2_i32_476
  let c0_i32_477 : BitVec 32 := 0#32
  let v796 : BitVec 32 := Scalar.addi v795 c0_i32_477
  let c256_i32_478 : BitVec 32 := 256#32
  let v797 : BitVec 32 := Scalar.muli v796 c256_i32_478
  let c49_i32 : BitVec 32 := 49#32
  let v798 : BitVec 32 := Scalar.addi v797 c49_i32
  let c8_i32_482 : BitVec 32 := 8#32
  let v803 : BitVec 32 := Scalar.muli v798 c8_i32_482
  v803
def k0_off2267 (i : grid0.Coords) : Fin 1 → Nat :=
  let c1_i32_479 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v799 : BitVec 32 := Scalar.subi c1_i32_479 v9
  ![v799.toNat]
def k0_off2268 (i : grid0.Coords) : Fin 3 → Nat :=
  let c1_i32_479 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v799 : BitVec 32 := Scalar.subi c1_i32_479 v9
  let arg1 : BitVec 32 := BitVec.ofNat 32 (i 1).val
  let c2_i32_476 : BitVec 32 := 2#32
  let v795 : BitVec 32 := Scalar.muli arg1 c2_i32_476
  let c0_i32_477 : BitVec 32 := 0#32
  let v796 : BitVec 32 := Scalar.addi v795 c0_i32_477
  let c256_i32_478 : BitVec 32 := 256#32
  let v797 : BitVec 32 := Scalar.muli v796 c256_i32_478
  let c49_i32 : BitVec 32 := 49#32
  let v798 : BitVec 32 := Scalar.addi v797 c49_i32
  let c8_i32_482 : BitVec 32 := 8#32
  let v803 : BitVec 32 := Scalar.muli v798 c8_i32_482
  let v804 : BitVec 32 := v803
  let c0_i32_483 : BitVec 32 := 0#32
  ![v799.toNat, v804.toNat, 0]
def k0_off2269 (v801 : BitVec 32) : Fin 2 → Nat :=
  let v802 : BitVec 32 := v801
  let c0_i32_484 : BitVec 32 := 0#32
  ![v802.toNat, 0]

def k0_chk563 (i : grid0.Coords) (v801 : BitVec 32) : Prop :=
  (∀ (k0_h3 : k0_cond3 i = 1#1), 8 ∣ (k0_mult1125 v801).toNat) ∧
  (∀ (k0_h3 : k0_cond3 i = 1#1), ∀ a, (k0_off2269 v801) a + S8x128.size a ≤ S131072x128.size a)
theorem k0_mult1125_dvd : ∀ (i : grid0.Coords) (v801 : BitVec 32) (k0_hw563 : k0_chk563 i v801), ∀ (k0_h3 : k0_cond3 i = 1#1), 8 ∣ (k0_mult1125 v801).toNat := fun i v801 k0_hw563 k0_h3 => k0_hw563.1 k0_h3
theorem k0_off2269_inb : ∀ (i : grid0.Coords) (v801 : BitVec 32) (k0_hw563 : k0_chk563 i v801), ∀ (k0_h3 : k0_cond3 i = 1#1), ∀ a, (k0_off2269 v801) a + S8x128.size a ≤ S131072x128.size a := fun i v801 k0_hw563 k0_h3 => k0_hw563.2 k0_h3

def k0_off2270 (i : grid0.Coords) : Fin 3 → Nat :=
  let c0_489 : Index := 0#32
  let c0_490 : Index := 0#32
  let arg1 : BitVec 32 := BitVec.ofNat 32 (i 1).val
  let c2_i32_485 : BitVec 32 := 2#32
  let v810 : BitVec 32 := Scalar.muli arg1 c2_i32_485
  let c0_i32_486 : BitVec 32 := 0#32
  let v811 : BitVec 32 := Scalar.addi v810 c0_i32_486
  let c256_i32_487 : BitVec 32 := 256#32
  let v812 : BitVec 32 := Scalar.muli v811 c256_i32_487
  let c50_i32 : BitVec 32 := 50#32
  let v813 : BitVec 32 := Scalar.addi v812 c50_i32
  let v815 : Index := Scalar.indexCast v813
  ![0, 0, v815.toNat]
def k0_mult1127 (v816 : BitVec 32) : BitVec 32 :=
  v816

def k0_mult1128 (i : grid0.Coords) : BitVec 32 :=
  let arg1 : BitVec 32 := BitVec.ofNat 32 (i 1).val
  let c2_i32_485 : BitVec 32 := 2#32
  let v810 : BitVec 32 := Scalar.muli arg1 c2_i32_485
  let c0_i32_486 : BitVec 32 := 0#32
  let v811 : BitVec 32 := Scalar.addi v810 c0_i32_486
  let c256_i32_487 : BitVec 32 := 256#32
  let v812 : BitVec 32 := Scalar.muli v811 c256_i32_487
  let c50_i32 : BitVec 32 := 50#32
  let v813 : BitVec 32 := Scalar.addi v812 c50_i32
  let c8_i32_491 : BitVec 32 := 8#32
  let v818 : BitVec 32 := Scalar.muli v813 c8_i32_491
  v818
def k0_off2271 (i : grid0.Coords) : Fin 1 → Nat :=
  let c1_i32_488 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v814 : BitVec 32 := Scalar.subi c1_i32_488 v9
  ![v814.toNat]
def k0_off2272 (i : grid0.Coords) : Fin 3 → Nat :=
  let c1_i32_488 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v814 : BitVec 32 := Scalar.subi c1_i32_488 v9
  let arg1 : BitVec 32 := BitVec.ofNat 32 (i 1).val
  let c2_i32_485 : BitVec 32 := 2#32
  let v810 : BitVec 32 := Scalar.muli arg1 c2_i32_485
  let c0_i32_486 : BitVec 32 := 0#32
  let v811 : BitVec 32 := Scalar.addi v810 c0_i32_486
  let c256_i32_487 : BitVec 32 := 256#32
  let v812 : BitVec 32 := Scalar.muli v811 c256_i32_487
  let c50_i32 : BitVec 32 := 50#32
  let v813 : BitVec 32 := Scalar.addi v812 c50_i32
  let c8_i32_491 : BitVec 32 := 8#32
  let v818 : BitVec 32 := Scalar.muli v813 c8_i32_491
  let v819 : BitVec 32 := v818
  let c0_i32_492 : BitVec 32 := 0#32
  ![v814.toNat, v819.toNat, 0]
def k0_off2273 (v816 : BitVec 32) : Fin 2 → Nat :=
  let v817 : BitVec 32 := v816
  let c0_i32_493 : BitVec 32 := 0#32
  ![v817.toNat, 0]

def k0_chk564 (i : grid0.Coords) (v816 : BitVec 32) : Prop :=
  (∀ (k0_h3 : k0_cond3 i = 1#1), 8 ∣ (k0_mult1127 v816).toNat) ∧
  (∀ (k0_h3 : k0_cond3 i = 1#1), ∀ a, (k0_off2273 v816) a + S8x128.size a ≤ S131072x128.size a)
theorem k0_mult1127_dvd : ∀ (i : grid0.Coords) (v816 : BitVec 32) (k0_hw564 : k0_chk564 i v816), ∀ (k0_h3 : k0_cond3 i = 1#1), 8 ∣ (k0_mult1127 v816).toNat := fun i v816 k0_hw564 k0_h3 => k0_hw564.1 k0_h3
theorem k0_off2273_inb : ∀ (i : grid0.Coords) (v816 : BitVec 32) (k0_hw564 : k0_chk564 i v816), ∀ (k0_h3 : k0_cond3 i = 1#1), ∀ a, (k0_off2273 v816) a + S8x128.size a ≤ S131072x128.size a := fun i v816 k0_hw564 k0_h3 => k0_hw564.2 k0_h3

def k0_off2274 (i : grid0.Coords) : Fin 3 → Nat :=
  let c0_498 : Index := 0#32
  let c0_499 : Index := 0#32
  let arg1 : BitVec 32 := BitVec.ofNat 32 (i 1).val
  let c2_i32_494 : BitVec 32 := 2#32
  let v825 : BitVec 32 := Scalar.muli arg1 c2_i32_494
  let c0_i32_495 : BitVec 32 := 0#32
  let v826 : BitVec 32 := Scalar.addi v825 c0_i32_495
  let c256_i32_496 : BitVec 32 := 256#32
  let v827 : BitVec 32 := Scalar.muli v826 c256_i32_496
  let c51_i32 : BitVec 32 := 51#32
  let v828 : BitVec 32 := Scalar.addi v827 c51_i32
  let v830 : Index := Scalar.indexCast v828
  ![0, 0, v830.toNat]
def k0_mult1129 (v831 : BitVec 32) : BitVec 32 :=
  v831

def k0_mult1130 (i : grid0.Coords) : BitVec 32 :=
  let arg1 : BitVec 32 := BitVec.ofNat 32 (i 1).val
  let c2_i32_494 : BitVec 32 := 2#32
  let v825 : BitVec 32 := Scalar.muli arg1 c2_i32_494
  let c0_i32_495 : BitVec 32 := 0#32
  let v826 : BitVec 32 := Scalar.addi v825 c0_i32_495
  let c256_i32_496 : BitVec 32 := 256#32
  let v827 : BitVec 32 := Scalar.muli v826 c256_i32_496
  let c51_i32 : BitVec 32 := 51#32
  let v828 : BitVec 32 := Scalar.addi v827 c51_i32
  let c8_i32_500 : BitVec 32 := 8#32
  let v833 : BitVec 32 := Scalar.muli v828 c8_i32_500
  v833
def k0_off2275 (i : grid0.Coords) : Fin 1 → Nat :=
  let c1_i32_497 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v829 : BitVec 32 := Scalar.subi c1_i32_497 v9
  ![v829.toNat]
def k0_off2276 (i : grid0.Coords) : Fin 3 → Nat :=
  let c1_i32_497 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v829 : BitVec 32 := Scalar.subi c1_i32_497 v9
  let arg1 : BitVec 32 := BitVec.ofNat 32 (i 1).val
  let c2_i32_494 : BitVec 32 := 2#32
  let v825 : BitVec 32 := Scalar.muli arg1 c2_i32_494
  let c0_i32_495 : BitVec 32 := 0#32
  let v826 : BitVec 32 := Scalar.addi v825 c0_i32_495
  let c256_i32_496 : BitVec 32 := 256#32
  let v827 : BitVec 32 := Scalar.muli v826 c256_i32_496
  let c51_i32 : BitVec 32 := 51#32
  let v828 : BitVec 32 := Scalar.addi v827 c51_i32
  let c8_i32_500 : BitVec 32 := 8#32
  let v833 : BitVec 32 := Scalar.muli v828 c8_i32_500
  let v834 : BitVec 32 := v833
  let c0_i32_501 : BitVec 32 := 0#32
  ![v829.toNat, v834.toNat, 0]
def k0_off2277 (v831 : BitVec 32) : Fin 2 → Nat :=
  let v832 : BitVec 32 := v831
  let c0_i32_502 : BitVec 32 := 0#32
  ![v832.toNat, 0]

def k0_chk565 (i : grid0.Coords) (v831 : BitVec 32) : Prop :=
  (∀ (k0_h3 : k0_cond3 i = 1#1), 8 ∣ (k0_mult1129 v831).toNat) ∧
  (∀ (k0_h3 : k0_cond3 i = 1#1), ∀ a, (k0_off2277 v831) a + S8x128.size a ≤ S131072x128.size a)
theorem k0_mult1129_dvd : ∀ (i : grid0.Coords) (v831 : BitVec 32) (k0_hw565 : k0_chk565 i v831), ∀ (k0_h3 : k0_cond3 i = 1#1), 8 ∣ (k0_mult1129 v831).toNat := fun i v831 k0_hw565 k0_h3 => k0_hw565.1 k0_h3
theorem k0_off2277_inb : ∀ (i : grid0.Coords) (v831 : BitVec 32) (k0_hw565 : k0_chk565 i v831), ∀ (k0_h3 : k0_cond3 i = 1#1), ∀ a, (k0_off2277 v831) a + S8x128.size a ≤ S131072x128.size a := fun i v831 k0_hw565 k0_h3 => k0_hw565.2 k0_h3

def k0_off2278 (i : grid0.Coords) : Fin 3 → Nat :=
  let c0_507 : Index := 0#32
  let c0_508 : Index := 0#32
  let arg1 : BitVec 32 := BitVec.ofNat 32 (i 1).val
  let c2_i32_503 : BitVec 32 := 2#32
  let v840 : BitVec 32 := Scalar.muli arg1 c2_i32_503
  let c0_i32_504 : BitVec 32 := 0#32
  let v841 : BitVec 32 := Scalar.addi v840 c0_i32_504
  let c256_i32_505 : BitVec 32 := 256#32
  let v842 : BitVec 32 := Scalar.muli v841 c256_i32_505
  let c52_i32 : BitVec 32 := 52#32
  let v843 : BitVec 32 := Scalar.addi v842 c52_i32
  let v845 : Index := Scalar.indexCast v843
  ![0, 0, v845.toNat]
def k0_mult1131 (v846 : BitVec 32) : BitVec 32 :=
  v846

def k0_mult1132 (i : grid0.Coords) : BitVec 32 :=
  let arg1 : BitVec 32 := BitVec.ofNat 32 (i 1).val
  let c2_i32_503 : BitVec 32 := 2#32
  let v840 : BitVec 32 := Scalar.muli arg1 c2_i32_503
  let c0_i32_504 : BitVec 32 := 0#32
  let v841 : BitVec 32 := Scalar.addi v840 c0_i32_504
  let c256_i32_505 : BitVec 32 := 256#32
  let v842 : BitVec 32 := Scalar.muli v841 c256_i32_505
  let c52_i32 : BitVec 32 := 52#32
  let v843 : BitVec 32 := Scalar.addi v842 c52_i32
  let c8_i32_509 : BitVec 32 := 8#32
  let v848 : BitVec 32 := Scalar.muli v843 c8_i32_509
  v848
def k0_off2279 (i : grid0.Coords) : Fin 1 → Nat :=
  let c1_i32_506 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v844 : BitVec 32 := Scalar.subi c1_i32_506 v9
  ![v844.toNat]
def k0_off2280 (i : grid0.Coords) : Fin 3 → Nat :=
  let c1_i32_506 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v844 : BitVec 32 := Scalar.subi c1_i32_506 v9
  let arg1 : BitVec 32 := BitVec.ofNat 32 (i 1).val
  let c2_i32_503 : BitVec 32 := 2#32
  let v840 : BitVec 32 := Scalar.muli arg1 c2_i32_503
  let c0_i32_504 : BitVec 32 := 0#32
  let v841 : BitVec 32 := Scalar.addi v840 c0_i32_504
  let c256_i32_505 : BitVec 32 := 256#32
  let v842 : BitVec 32 := Scalar.muli v841 c256_i32_505
  let c52_i32 : BitVec 32 := 52#32
  let v843 : BitVec 32 := Scalar.addi v842 c52_i32
  let c8_i32_509 : BitVec 32 := 8#32
  let v848 : BitVec 32 := Scalar.muli v843 c8_i32_509
  let v849 : BitVec 32 := v848
  let c0_i32_510 : BitVec 32 := 0#32
  ![v844.toNat, v849.toNat, 0]
def k0_off2281 (v846 : BitVec 32) : Fin 2 → Nat :=
  let v847 : BitVec 32 := v846
  let c0_i32_511 : BitVec 32 := 0#32
  ![v847.toNat, 0]

def k0_chk566 (i : grid0.Coords) (v846 : BitVec 32) : Prop :=
  (∀ (k0_h3 : k0_cond3 i = 1#1), 8 ∣ (k0_mult1131 v846).toNat) ∧
  (∀ (k0_h3 : k0_cond3 i = 1#1), ∀ a, (k0_off2281 v846) a + S8x128.size a ≤ S131072x128.size a)
theorem k0_mult1131_dvd : ∀ (i : grid0.Coords) (v846 : BitVec 32) (k0_hw566 : k0_chk566 i v846), ∀ (k0_h3 : k0_cond3 i = 1#1), 8 ∣ (k0_mult1131 v846).toNat := fun i v846 k0_hw566 k0_h3 => k0_hw566.1 k0_h3
theorem k0_off2281_inb : ∀ (i : grid0.Coords) (v846 : BitVec 32) (k0_hw566 : k0_chk566 i v846), ∀ (k0_h3 : k0_cond3 i = 1#1), ∀ a, (k0_off2281 v846) a + S8x128.size a ≤ S131072x128.size a := fun i v846 k0_hw566 k0_h3 => k0_hw566.2 k0_h3

def k0_off2282 (i : grid0.Coords) : Fin 3 → Nat :=
  let c0_516 : Index := 0#32
  let c0_517 : Index := 0#32
  let arg1 : BitVec 32 := BitVec.ofNat 32 (i 1).val
  let c2_i32_512 : BitVec 32 := 2#32
  let v855 : BitVec 32 := Scalar.muli arg1 c2_i32_512
  let c0_i32_513 : BitVec 32 := 0#32
  let v856 : BitVec 32 := Scalar.addi v855 c0_i32_513
  let c256_i32_514 : BitVec 32 := 256#32
  let v857 : BitVec 32 := Scalar.muli v856 c256_i32_514
  let c53_i32 : BitVec 32 := 53#32
  let v858 : BitVec 32 := Scalar.addi v857 c53_i32
  let v860 : Index := Scalar.indexCast v858
  ![0, 0, v860.toNat]
def k0_mult1133 (v861 : BitVec 32) : BitVec 32 :=
  v861

def k0_mult1134 (i : grid0.Coords) : BitVec 32 :=
  let arg1 : BitVec 32 := BitVec.ofNat 32 (i 1).val
  let c2_i32_512 : BitVec 32 := 2#32
  let v855 : BitVec 32 := Scalar.muli arg1 c2_i32_512
  let c0_i32_513 : BitVec 32 := 0#32
  let v856 : BitVec 32 := Scalar.addi v855 c0_i32_513
  let c256_i32_514 : BitVec 32 := 256#32
  let v857 : BitVec 32 := Scalar.muli v856 c256_i32_514
  let c53_i32 : BitVec 32 := 53#32
  let v858 : BitVec 32 := Scalar.addi v857 c53_i32
  let c8_i32_518 : BitVec 32 := 8#32
  let v863 : BitVec 32 := Scalar.muli v858 c8_i32_518
  v863
def k0_off2283 (i : grid0.Coords) : Fin 1 → Nat :=
  let c1_i32_515 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v859 : BitVec 32 := Scalar.subi c1_i32_515 v9
  ![v859.toNat]
def k0_off2284 (i : grid0.Coords) : Fin 3 → Nat :=
  let c1_i32_515 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v859 : BitVec 32 := Scalar.subi c1_i32_515 v9
  let arg1 : BitVec 32 := BitVec.ofNat 32 (i 1).val
  let c2_i32_512 : BitVec 32 := 2#32
  let v855 : BitVec 32 := Scalar.muli arg1 c2_i32_512
  let c0_i32_513 : BitVec 32 := 0#32
  let v856 : BitVec 32 := Scalar.addi v855 c0_i32_513
  let c256_i32_514 : BitVec 32 := 256#32
  let v857 : BitVec 32 := Scalar.muli v856 c256_i32_514
  let c53_i32 : BitVec 32 := 53#32
  let v858 : BitVec 32 := Scalar.addi v857 c53_i32
  let c8_i32_518 : BitVec 32 := 8#32
  let v863 : BitVec 32 := Scalar.muli v858 c8_i32_518
  let v864 : BitVec 32 := v863
  let c0_i32_519 : BitVec 32 := 0#32
  ![v859.toNat, v864.toNat, 0]
def k0_off2285 (v861 : BitVec 32) : Fin 2 → Nat :=
  let v862 : BitVec 32 := v861
  let c0_i32_520 : BitVec 32 := 0#32
  ![v862.toNat, 0]

def k0_chk567 (i : grid0.Coords) (v861 : BitVec 32) : Prop :=
  (∀ (k0_h3 : k0_cond3 i = 1#1), 8 ∣ (k0_mult1133 v861).toNat) ∧
  (∀ (k0_h3 : k0_cond3 i = 1#1), ∀ a, (k0_off2285 v861) a + S8x128.size a ≤ S131072x128.size a)
theorem k0_mult1133_dvd : ∀ (i : grid0.Coords) (v861 : BitVec 32) (k0_hw567 : k0_chk567 i v861), ∀ (k0_h3 : k0_cond3 i = 1#1), 8 ∣ (k0_mult1133 v861).toNat := fun i v861 k0_hw567 k0_h3 => k0_hw567.1 k0_h3
theorem k0_off2285_inb : ∀ (i : grid0.Coords) (v861 : BitVec 32) (k0_hw567 : k0_chk567 i v861), ∀ (k0_h3 : k0_cond3 i = 1#1), ∀ a, (k0_off2285 v861) a + S8x128.size a ≤ S131072x128.size a := fun i v861 k0_hw567 k0_h3 => k0_hw567.2 k0_h3

def k0_off2286 (i : grid0.Coords) : Fin 3 → Nat :=
  let c0_525 : Index := 0#32
  let c0_526 : Index := 0#32
  let arg1 : BitVec 32 := BitVec.ofNat 32 (i 1).val
  let c2_i32_521 : BitVec 32 := 2#32
  let v870 : BitVec 32 := Scalar.muli arg1 c2_i32_521
  let c0_i32_522 : BitVec 32 := 0#32
  let v871 : BitVec 32 := Scalar.addi v870 c0_i32_522
  let c256_i32_523 : BitVec 32 := 256#32
  let v872 : BitVec 32 := Scalar.muli v871 c256_i32_523
  let c54_i32 : BitVec 32 := 54#32
  let v873 : BitVec 32 := Scalar.addi v872 c54_i32
  let v875 : Index := Scalar.indexCast v873
  ![0, 0, v875.toNat]
def k0_mult1135 (v876 : BitVec 32) : BitVec 32 :=
  v876

def k0_mult1136 (i : grid0.Coords) : BitVec 32 :=
  let arg1 : BitVec 32 := BitVec.ofNat 32 (i 1).val
  let c2_i32_521 : BitVec 32 := 2#32
  let v870 : BitVec 32 := Scalar.muli arg1 c2_i32_521
  let c0_i32_522 : BitVec 32 := 0#32
  let v871 : BitVec 32 := Scalar.addi v870 c0_i32_522
  let c256_i32_523 : BitVec 32 := 256#32
  let v872 : BitVec 32 := Scalar.muli v871 c256_i32_523
  let c54_i32 : BitVec 32 := 54#32
  let v873 : BitVec 32 := Scalar.addi v872 c54_i32
  let c8_i32_527 : BitVec 32 := 8#32
  let v878 : BitVec 32 := Scalar.muli v873 c8_i32_527
  v878
def k0_off2287 (i : grid0.Coords) : Fin 1 → Nat :=
  let c1_i32_524 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v874 : BitVec 32 := Scalar.subi c1_i32_524 v9
  ![v874.toNat]
def k0_off2288 (i : grid0.Coords) : Fin 3 → Nat :=
  let c1_i32_524 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v874 : BitVec 32 := Scalar.subi c1_i32_524 v9
  let arg1 : BitVec 32 := BitVec.ofNat 32 (i 1).val
  let c2_i32_521 : BitVec 32 := 2#32
  let v870 : BitVec 32 := Scalar.muli arg1 c2_i32_521
  let c0_i32_522 : BitVec 32 := 0#32
  let v871 : BitVec 32 := Scalar.addi v870 c0_i32_522
  let c256_i32_523 : BitVec 32 := 256#32
  let v872 : BitVec 32 := Scalar.muli v871 c256_i32_523
  let c54_i32 : BitVec 32 := 54#32
  let v873 : BitVec 32 := Scalar.addi v872 c54_i32
  let c8_i32_527 : BitVec 32 := 8#32
  let v878 : BitVec 32 := Scalar.muli v873 c8_i32_527
  let v879 : BitVec 32 := v878
  let c0_i32_528 : BitVec 32 := 0#32
  ![v874.toNat, v879.toNat, 0]
def k0_off2289 (v876 : BitVec 32) : Fin 2 → Nat :=
  let v877 : BitVec 32 := v876
  let c0_i32_529 : BitVec 32 := 0#32
  ![v877.toNat, 0]

def k0_chk568 (i : grid0.Coords) (v876 : BitVec 32) : Prop :=
  (∀ (k0_h3 : k0_cond3 i = 1#1), 8 ∣ (k0_mult1135 v876).toNat) ∧
  (∀ (k0_h3 : k0_cond3 i = 1#1), ∀ a, (k0_off2289 v876) a + S8x128.size a ≤ S131072x128.size a)
theorem k0_mult1135_dvd : ∀ (i : grid0.Coords) (v876 : BitVec 32) (k0_hw568 : k0_chk568 i v876), ∀ (k0_h3 : k0_cond3 i = 1#1), 8 ∣ (k0_mult1135 v876).toNat := fun i v876 k0_hw568 k0_h3 => k0_hw568.1 k0_h3
theorem k0_off2289_inb : ∀ (i : grid0.Coords) (v876 : BitVec 32) (k0_hw568 : k0_chk568 i v876), ∀ (k0_h3 : k0_cond3 i = 1#1), ∀ a, (k0_off2289 v876) a + S8x128.size a ≤ S131072x128.size a := fun i v876 k0_hw568 k0_h3 => k0_hw568.2 k0_h3

def k0_off2290 (i : grid0.Coords) : Fin 3 → Nat :=
  let c0_534 : Index := 0#32
  let c0_535 : Index := 0#32
  let arg1 : BitVec 32 := BitVec.ofNat 32 (i 1).val
  let c2_i32_530 : BitVec 32 := 2#32
  let v885 : BitVec 32 := Scalar.muli arg1 c2_i32_530
  let c0_i32_531 : BitVec 32 := 0#32
  let v886 : BitVec 32 := Scalar.addi v885 c0_i32_531
  let c256_i32_532 : BitVec 32 := 256#32
  let v887 : BitVec 32 := Scalar.muli v886 c256_i32_532
  let c55_i32 : BitVec 32 := 55#32
  let v888 : BitVec 32 := Scalar.addi v887 c55_i32
  let v890 : Index := Scalar.indexCast v888
  ![0, 0, v890.toNat]
def k0_mult1137 (v891 : BitVec 32) : BitVec 32 :=
  v891

def k0_mult1138 (i : grid0.Coords) : BitVec 32 :=
  let arg1 : BitVec 32 := BitVec.ofNat 32 (i 1).val
  let c2_i32_530 : BitVec 32 := 2#32
  let v885 : BitVec 32 := Scalar.muli arg1 c2_i32_530
  let c0_i32_531 : BitVec 32 := 0#32
  let v886 : BitVec 32 := Scalar.addi v885 c0_i32_531
  let c256_i32_532 : BitVec 32 := 256#32
  let v887 : BitVec 32 := Scalar.muli v886 c256_i32_532
  let c55_i32 : BitVec 32 := 55#32
  let v888 : BitVec 32 := Scalar.addi v887 c55_i32
  let c8_i32_536 : BitVec 32 := 8#32
  let v893 : BitVec 32 := Scalar.muli v888 c8_i32_536
  v893
def k0_off2291 (i : grid0.Coords) : Fin 1 → Nat :=
  let c1_i32_533 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v889 : BitVec 32 := Scalar.subi c1_i32_533 v9
  ![v889.toNat]
def k0_off2292 (i : grid0.Coords) : Fin 3 → Nat :=
  let c1_i32_533 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v889 : BitVec 32 := Scalar.subi c1_i32_533 v9
  let arg1 : BitVec 32 := BitVec.ofNat 32 (i 1).val
  let c2_i32_530 : BitVec 32 := 2#32
  let v885 : BitVec 32 := Scalar.muli arg1 c2_i32_530
  let c0_i32_531 : BitVec 32 := 0#32
  let v886 : BitVec 32 := Scalar.addi v885 c0_i32_531
  let c256_i32_532 : BitVec 32 := 256#32
  let v887 : BitVec 32 := Scalar.muli v886 c256_i32_532
  let c55_i32 : BitVec 32 := 55#32
  let v888 : BitVec 32 := Scalar.addi v887 c55_i32
  let c8_i32_536 : BitVec 32 := 8#32
  let v893 : BitVec 32 := Scalar.muli v888 c8_i32_536
  let v894 : BitVec 32 := v893
  let c0_i32_537 : BitVec 32 := 0#32
  ![v889.toNat, v894.toNat, 0]
def k0_off2293 (v891 : BitVec 32) : Fin 2 → Nat :=
  let v892 : BitVec 32 := v891
  let c0_i32_538 : BitVec 32 := 0#32
  ![v892.toNat, 0]

def k0_chk569 (i : grid0.Coords) (v891 : BitVec 32) : Prop :=
  (∀ (k0_h3 : k0_cond3 i = 1#1), 8 ∣ (k0_mult1137 v891).toNat) ∧
  (∀ (k0_h3 : k0_cond3 i = 1#1), ∀ a, (k0_off2293 v891) a + S8x128.size a ≤ S131072x128.size a)
theorem k0_mult1137_dvd : ∀ (i : grid0.Coords) (v891 : BitVec 32) (k0_hw569 : k0_chk569 i v891), ∀ (k0_h3 : k0_cond3 i = 1#1), 8 ∣ (k0_mult1137 v891).toNat := fun i v891 k0_hw569 k0_h3 => k0_hw569.1 k0_h3
theorem k0_off2293_inb : ∀ (i : grid0.Coords) (v891 : BitVec 32) (k0_hw569 : k0_chk569 i v891), ∀ (k0_h3 : k0_cond3 i = 1#1), ∀ a, (k0_off2293 v891) a + S8x128.size a ≤ S131072x128.size a := fun i v891 k0_hw569 k0_h3 => k0_hw569.2 k0_h3

def k0_off2294 (i : grid0.Coords) : Fin 3 → Nat :=
  let c0_543 : Index := 0#32
  let c0_544 : Index := 0#32
  let arg1 : BitVec 32 := BitVec.ofNat 32 (i 1).val
  let c2_i32_539 : BitVec 32 := 2#32
  let v900 : BitVec 32 := Scalar.muli arg1 c2_i32_539
  let c0_i32_540 : BitVec 32 := 0#32
  let v901 : BitVec 32 := Scalar.addi v900 c0_i32_540
  let c256_i32_541 : BitVec 32 := 256#32
  let v902 : BitVec 32 := Scalar.muli v901 c256_i32_541
  let c56_i32 : BitVec 32 := 56#32
  let v903 : BitVec 32 := Scalar.addi v902 c56_i32
  let v905 : Index := Scalar.indexCast v903
  ![0, 0, v905.toNat]
def k0_mult1139 (v906 : BitVec 32) : BitVec 32 :=
  v906

def k0_mult1140 (i : grid0.Coords) : BitVec 32 :=
  let arg1 : BitVec 32 := BitVec.ofNat 32 (i 1).val
  let c2_i32_539 : BitVec 32 := 2#32
  let v900 : BitVec 32 := Scalar.muli arg1 c2_i32_539
  let c0_i32_540 : BitVec 32 := 0#32
  let v901 : BitVec 32 := Scalar.addi v900 c0_i32_540
  let c256_i32_541 : BitVec 32 := 256#32
  let v902 : BitVec 32 := Scalar.muli v901 c256_i32_541
  let c56_i32 : BitVec 32 := 56#32
  let v903 : BitVec 32 := Scalar.addi v902 c56_i32
  let c8_i32_545 : BitVec 32 := 8#32
  let v908 : BitVec 32 := Scalar.muli v903 c8_i32_545
  v908
def k0_off2295 (i : grid0.Coords) : Fin 1 → Nat :=
  let c1_i32_542 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v904 : BitVec 32 := Scalar.subi c1_i32_542 v9
  ![v904.toNat]
def k0_off2296 (i : grid0.Coords) : Fin 3 → Nat :=
  let c1_i32_542 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v904 : BitVec 32 := Scalar.subi c1_i32_542 v9
  let arg1 : BitVec 32 := BitVec.ofNat 32 (i 1).val
  let c2_i32_539 : BitVec 32 := 2#32
  let v900 : BitVec 32 := Scalar.muli arg1 c2_i32_539
  let c0_i32_540 : BitVec 32 := 0#32
  let v901 : BitVec 32 := Scalar.addi v900 c0_i32_540
  let c256_i32_541 : BitVec 32 := 256#32
  let v902 : BitVec 32 := Scalar.muli v901 c256_i32_541
  let c56_i32 : BitVec 32 := 56#32
  let v903 : BitVec 32 := Scalar.addi v902 c56_i32
  let c8_i32_545 : BitVec 32 := 8#32
  let v908 : BitVec 32 := Scalar.muli v903 c8_i32_545
  let v909 : BitVec 32 := v908
  let c0_i32_546 : BitVec 32 := 0#32
  ![v904.toNat, v909.toNat, 0]
def k0_off2297 (v906 : BitVec 32) : Fin 2 → Nat :=
  let v907 : BitVec 32 := v906
  let c0_i32_547 : BitVec 32 := 0#32
  ![v907.toNat, 0]

def k0_chk570 (i : grid0.Coords) (v906 : BitVec 32) : Prop :=
  (∀ (k0_h3 : k0_cond3 i = 1#1), 8 ∣ (k0_mult1139 v906).toNat) ∧
  (∀ (k0_h3 : k0_cond3 i = 1#1), ∀ a, (k0_off2297 v906) a + S8x128.size a ≤ S131072x128.size a)
theorem k0_mult1139_dvd : ∀ (i : grid0.Coords) (v906 : BitVec 32) (k0_hw570 : k0_chk570 i v906), ∀ (k0_h3 : k0_cond3 i = 1#1), 8 ∣ (k0_mult1139 v906).toNat := fun i v906 k0_hw570 k0_h3 => k0_hw570.1 k0_h3
theorem k0_off2297_inb : ∀ (i : grid0.Coords) (v906 : BitVec 32) (k0_hw570 : k0_chk570 i v906), ∀ (k0_h3 : k0_cond3 i = 1#1), ∀ a, (k0_off2297 v906) a + S8x128.size a ≤ S131072x128.size a := fun i v906 k0_hw570 k0_h3 => k0_hw570.2 k0_h3

def k0_off2298 (i : grid0.Coords) : Fin 3 → Nat :=
  let c0_552 : Index := 0#32
  let c0_553 : Index := 0#32
  let arg1 : BitVec 32 := BitVec.ofNat 32 (i 1).val
  let c2_i32_548 : BitVec 32 := 2#32
  let v915 : BitVec 32 := Scalar.muli arg1 c2_i32_548
  let c0_i32_549 : BitVec 32 := 0#32
  let v916 : BitVec 32 := Scalar.addi v915 c0_i32_549
  let c256_i32_550 : BitVec 32 := 256#32
  let v917 : BitVec 32 := Scalar.muli v916 c256_i32_550
  let c57_i32 : BitVec 32 := 57#32
  let v918 : BitVec 32 := Scalar.addi v917 c57_i32
  let v920 : Index := Scalar.indexCast v918
  ![0, 0, v920.toNat]
def k0_mult1141 (v921 : BitVec 32) : BitVec 32 :=
  v921

def k0_mult1142 (i : grid0.Coords) : BitVec 32 :=
  let arg1 : BitVec 32 := BitVec.ofNat 32 (i 1).val
  let c2_i32_548 : BitVec 32 := 2#32
  let v915 : BitVec 32 := Scalar.muli arg1 c2_i32_548
  let c0_i32_549 : BitVec 32 := 0#32
  let v916 : BitVec 32 := Scalar.addi v915 c0_i32_549
  let c256_i32_550 : BitVec 32 := 256#32
  let v917 : BitVec 32 := Scalar.muli v916 c256_i32_550
  let c57_i32 : BitVec 32 := 57#32
  let v918 : BitVec 32 := Scalar.addi v917 c57_i32
  let c8_i32_554 : BitVec 32 := 8#32
  let v923 : BitVec 32 := Scalar.muli v918 c8_i32_554
  v923
def k0_off2299 (i : grid0.Coords) : Fin 1 → Nat :=
  let c1_i32_551 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v919 : BitVec 32 := Scalar.subi c1_i32_551 v9
  ![v919.toNat]
def k0_off2300 (i : grid0.Coords) : Fin 3 → Nat :=
  let c1_i32_551 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v919 : BitVec 32 := Scalar.subi c1_i32_551 v9
  let arg1 : BitVec 32 := BitVec.ofNat 32 (i 1).val
  let c2_i32_548 : BitVec 32 := 2#32
  let v915 : BitVec 32 := Scalar.muli arg1 c2_i32_548
  let c0_i32_549 : BitVec 32 := 0#32
  let v916 : BitVec 32 := Scalar.addi v915 c0_i32_549
  let c256_i32_550 : BitVec 32 := 256#32
  let v917 : BitVec 32 := Scalar.muli v916 c256_i32_550
  let c57_i32 : BitVec 32 := 57#32
  let v918 : BitVec 32 := Scalar.addi v917 c57_i32
  let c8_i32_554 : BitVec 32 := 8#32
  let v923 : BitVec 32 := Scalar.muli v918 c8_i32_554
  let v924 : BitVec 32 := v923
  let c0_i32_555 : BitVec 32 := 0#32
  ![v919.toNat, v924.toNat, 0]
def k0_off2301 (v921 : BitVec 32) : Fin 2 → Nat :=
  let v922 : BitVec 32 := v921
  let c0_i32_556 : BitVec 32 := 0#32
  ![v922.toNat, 0]

def k0_chk571 (i : grid0.Coords) (v921 : BitVec 32) : Prop :=
  (∀ (k0_h3 : k0_cond3 i = 1#1), 8 ∣ (k0_mult1141 v921).toNat) ∧
  (∀ (k0_h3 : k0_cond3 i = 1#1), ∀ a, (k0_off2301 v921) a + S8x128.size a ≤ S131072x128.size a)
theorem k0_mult1141_dvd : ∀ (i : grid0.Coords) (v921 : BitVec 32) (k0_hw571 : k0_chk571 i v921), ∀ (k0_h3 : k0_cond3 i = 1#1), 8 ∣ (k0_mult1141 v921).toNat := fun i v921 k0_hw571 k0_h3 => k0_hw571.1 k0_h3
theorem k0_off2301_inb : ∀ (i : grid0.Coords) (v921 : BitVec 32) (k0_hw571 : k0_chk571 i v921), ∀ (k0_h3 : k0_cond3 i = 1#1), ∀ a, (k0_off2301 v921) a + S8x128.size a ≤ S131072x128.size a := fun i v921 k0_hw571 k0_h3 => k0_hw571.2 k0_h3

def k0_off2302 (i : grid0.Coords) : Fin 3 → Nat :=
  let c0_561 : Index := 0#32
  let c0_562 : Index := 0#32
  let arg1 : BitVec 32 := BitVec.ofNat 32 (i 1).val
  let c2_i32_557 : BitVec 32 := 2#32
  let v930 : BitVec 32 := Scalar.muli arg1 c2_i32_557
  let c0_i32_558 : BitVec 32 := 0#32
  let v931 : BitVec 32 := Scalar.addi v930 c0_i32_558
  let c256_i32_559 : BitVec 32 := 256#32
  let v932 : BitVec 32 := Scalar.muli v931 c256_i32_559
  let c58_i32 : BitVec 32 := 58#32
  let v933 : BitVec 32 := Scalar.addi v932 c58_i32
  let v935 : Index := Scalar.indexCast v933
  ![0, 0, v935.toNat]
def k0_mult1143 (v936 : BitVec 32) : BitVec 32 :=
  v936

def k0_mult1144 (i : grid0.Coords) : BitVec 32 :=
  let arg1 : BitVec 32 := BitVec.ofNat 32 (i 1).val
  let c2_i32_557 : BitVec 32 := 2#32
  let v930 : BitVec 32 := Scalar.muli arg1 c2_i32_557
  let c0_i32_558 : BitVec 32 := 0#32
  let v931 : BitVec 32 := Scalar.addi v930 c0_i32_558
  let c256_i32_559 : BitVec 32 := 256#32
  let v932 : BitVec 32 := Scalar.muli v931 c256_i32_559
  let c58_i32 : BitVec 32 := 58#32
  let v933 : BitVec 32 := Scalar.addi v932 c58_i32
  let c8_i32_563 : BitVec 32 := 8#32
  let v938 : BitVec 32 := Scalar.muli v933 c8_i32_563
  v938
def k0_off2303 (i : grid0.Coords) : Fin 1 → Nat :=
  let c1_i32_560 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v934 : BitVec 32 := Scalar.subi c1_i32_560 v9
  ![v934.toNat]
def k0_off2304 (i : grid0.Coords) : Fin 3 → Nat :=
  let c1_i32_560 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v934 : BitVec 32 := Scalar.subi c1_i32_560 v9
  let arg1 : BitVec 32 := BitVec.ofNat 32 (i 1).val
  let c2_i32_557 : BitVec 32 := 2#32
  let v930 : BitVec 32 := Scalar.muli arg1 c2_i32_557
  let c0_i32_558 : BitVec 32 := 0#32
  let v931 : BitVec 32 := Scalar.addi v930 c0_i32_558
  let c256_i32_559 : BitVec 32 := 256#32
  let v932 : BitVec 32 := Scalar.muli v931 c256_i32_559
  let c58_i32 : BitVec 32 := 58#32
  let v933 : BitVec 32 := Scalar.addi v932 c58_i32
  let c8_i32_563 : BitVec 32 := 8#32
  let v938 : BitVec 32 := Scalar.muli v933 c8_i32_563
  let v939 : BitVec 32 := v938
  let c0_i32_564 : BitVec 32 := 0#32
  ![v934.toNat, v939.toNat, 0]
def k0_off2305 (v936 : BitVec 32) : Fin 2 → Nat :=
  let v937 : BitVec 32 := v936
  let c0_i32_565 : BitVec 32 := 0#32
  ![v937.toNat, 0]

def k0_chk572 (i : grid0.Coords) (v936 : BitVec 32) : Prop :=
  (∀ (k0_h3 : k0_cond3 i = 1#1), 8 ∣ (k0_mult1143 v936).toNat) ∧
  (∀ (k0_h3 : k0_cond3 i = 1#1), ∀ a, (k0_off2305 v936) a + S8x128.size a ≤ S131072x128.size a)
theorem k0_mult1143_dvd : ∀ (i : grid0.Coords) (v936 : BitVec 32) (k0_hw572 : k0_chk572 i v936), ∀ (k0_h3 : k0_cond3 i = 1#1), 8 ∣ (k0_mult1143 v936).toNat := fun i v936 k0_hw572 k0_h3 => k0_hw572.1 k0_h3
theorem k0_off2305_inb : ∀ (i : grid0.Coords) (v936 : BitVec 32) (k0_hw572 : k0_chk572 i v936), ∀ (k0_h3 : k0_cond3 i = 1#1), ∀ a, (k0_off2305 v936) a + S8x128.size a ≤ S131072x128.size a := fun i v936 k0_hw572 k0_h3 => k0_hw572.2 k0_h3

def k0_off2306 (i : grid0.Coords) : Fin 3 → Nat :=
  let c0_570 : Index := 0#32
  let c0_571 : Index := 0#32
  let arg1 : BitVec 32 := BitVec.ofNat 32 (i 1).val
  let c2_i32_566 : BitVec 32 := 2#32
  let v945 : BitVec 32 := Scalar.muli arg1 c2_i32_566
  let c0_i32_567 : BitVec 32 := 0#32
  let v946 : BitVec 32 := Scalar.addi v945 c0_i32_567
  let c256_i32_568 : BitVec 32 := 256#32
  let v947 : BitVec 32 := Scalar.muli v946 c256_i32_568
  let c59_i32 : BitVec 32 := 59#32
  let v948 : BitVec 32 := Scalar.addi v947 c59_i32
  let v950 : Index := Scalar.indexCast v948
  ![0, 0, v950.toNat]
def k0_mult1145 (v951 : BitVec 32) : BitVec 32 :=
  v951

def k0_mult1146 (i : grid0.Coords) : BitVec 32 :=
  let arg1 : BitVec 32 := BitVec.ofNat 32 (i 1).val
  let c2_i32_566 : BitVec 32 := 2#32
  let v945 : BitVec 32 := Scalar.muli arg1 c2_i32_566
  let c0_i32_567 : BitVec 32 := 0#32
  let v946 : BitVec 32 := Scalar.addi v945 c0_i32_567
  let c256_i32_568 : BitVec 32 := 256#32
  let v947 : BitVec 32 := Scalar.muli v946 c256_i32_568
  let c59_i32 : BitVec 32 := 59#32
  let v948 : BitVec 32 := Scalar.addi v947 c59_i32
  let c8_i32_572 : BitVec 32 := 8#32
  let v953 : BitVec 32 := Scalar.muli v948 c8_i32_572
  v953
def k0_off2307 (i : grid0.Coords) : Fin 1 → Nat :=
  let c1_i32_569 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v949 : BitVec 32 := Scalar.subi c1_i32_569 v9
  ![v949.toNat]
def k0_off2308 (i : grid0.Coords) : Fin 3 → Nat :=
  let c1_i32_569 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v949 : BitVec 32 := Scalar.subi c1_i32_569 v9
  let arg1 : BitVec 32 := BitVec.ofNat 32 (i 1).val
  let c2_i32_566 : BitVec 32 := 2#32
  let v945 : BitVec 32 := Scalar.muli arg1 c2_i32_566
  let c0_i32_567 : BitVec 32 := 0#32
  let v946 : BitVec 32 := Scalar.addi v945 c0_i32_567
  let c256_i32_568 : BitVec 32 := 256#32
  let v947 : BitVec 32 := Scalar.muli v946 c256_i32_568
  let c59_i32 : BitVec 32 := 59#32
  let v948 : BitVec 32 := Scalar.addi v947 c59_i32
  let c8_i32_572 : BitVec 32 := 8#32
  let v953 : BitVec 32 := Scalar.muli v948 c8_i32_572
  let v954 : BitVec 32 := v953
  let c0_i32_573 : BitVec 32 := 0#32
  ![v949.toNat, v954.toNat, 0]
def k0_off2309 (v951 : BitVec 32) : Fin 2 → Nat :=
  let v952 : BitVec 32 := v951
  let c0_i32_574 : BitVec 32 := 0#32
  ![v952.toNat, 0]

def k0_chk573 (i : grid0.Coords) (v951 : BitVec 32) : Prop :=
  (∀ (k0_h3 : k0_cond3 i = 1#1), 8 ∣ (k0_mult1145 v951).toNat) ∧
  (∀ (k0_h3 : k0_cond3 i = 1#1), ∀ a, (k0_off2309 v951) a + S8x128.size a ≤ S131072x128.size a)
theorem k0_mult1145_dvd : ∀ (i : grid0.Coords) (v951 : BitVec 32) (k0_hw573 : k0_chk573 i v951), ∀ (k0_h3 : k0_cond3 i = 1#1), 8 ∣ (k0_mult1145 v951).toNat := fun i v951 k0_hw573 k0_h3 => k0_hw573.1 k0_h3
theorem k0_off2309_inb : ∀ (i : grid0.Coords) (v951 : BitVec 32) (k0_hw573 : k0_chk573 i v951), ∀ (k0_h3 : k0_cond3 i = 1#1), ∀ a, (k0_off2309 v951) a + S8x128.size a ≤ S131072x128.size a := fun i v951 k0_hw573 k0_h3 => k0_hw573.2 k0_h3

def k0_off2310 (i : grid0.Coords) : Fin 3 → Nat :=
  let c0_579 : Index := 0#32
  let c0_580 : Index := 0#32
  let arg1 : BitVec 32 := BitVec.ofNat 32 (i 1).val
  let c2_i32_575 : BitVec 32 := 2#32
  let v960 : BitVec 32 := Scalar.muli arg1 c2_i32_575
  let c0_i32_576 : BitVec 32 := 0#32
  let v961 : BitVec 32 := Scalar.addi v960 c0_i32_576
  let c256_i32_577 : BitVec 32 := 256#32
  let v962 : BitVec 32 := Scalar.muli v961 c256_i32_577
  let c60_i32 : BitVec 32 := 60#32
  let v963 : BitVec 32 := Scalar.addi v962 c60_i32
  let v965 : Index := Scalar.indexCast v963
  ![0, 0, v965.toNat]
def k0_mult1147 (v966 : BitVec 32) : BitVec 32 :=
  v966

def k0_mult1148 (i : grid0.Coords) : BitVec 32 :=
  let arg1 : BitVec 32 := BitVec.ofNat 32 (i 1).val
  let c2_i32_575 : BitVec 32 := 2#32
  let v960 : BitVec 32 := Scalar.muli arg1 c2_i32_575
  let c0_i32_576 : BitVec 32 := 0#32
  let v961 : BitVec 32 := Scalar.addi v960 c0_i32_576
  let c256_i32_577 : BitVec 32 := 256#32
  let v962 : BitVec 32 := Scalar.muli v961 c256_i32_577
  let c60_i32 : BitVec 32 := 60#32
  let v963 : BitVec 32 := Scalar.addi v962 c60_i32
  let c8_i32_581 : BitVec 32 := 8#32
  let v968 : BitVec 32 := Scalar.muli v963 c8_i32_581
  v968
def k0_off2311 (i : grid0.Coords) : Fin 1 → Nat :=
  let c1_i32_578 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v964 : BitVec 32 := Scalar.subi c1_i32_578 v9
  ![v964.toNat]
def k0_off2312 (i : grid0.Coords) : Fin 3 → Nat :=
  let c1_i32_578 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v964 : BitVec 32 := Scalar.subi c1_i32_578 v9
  let arg1 : BitVec 32 := BitVec.ofNat 32 (i 1).val
  let c2_i32_575 : BitVec 32 := 2#32
  let v960 : BitVec 32 := Scalar.muli arg1 c2_i32_575
  let c0_i32_576 : BitVec 32 := 0#32
  let v961 : BitVec 32 := Scalar.addi v960 c0_i32_576
  let c256_i32_577 : BitVec 32 := 256#32
  let v962 : BitVec 32 := Scalar.muli v961 c256_i32_577
  let c60_i32 : BitVec 32 := 60#32
  let v963 : BitVec 32 := Scalar.addi v962 c60_i32
  let c8_i32_581 : BitVec 32 := 8#32
  let v968 : BitVec 32 := Scalar.muli v963 c8_i32_581
  let v969 : BitVec 32 := v968
  let c0_i32_582 : BitVec 32 := 0#32
  ![v964.toNat, v969.toNat, 0]
def k0_off2313 (v966 : BitVec 32) : Fin 2 → Nat :=
  let v967 : BitVec 32 := v966
  let c0_i32_583 : BitVec 32 := 0#32
  ![v967.toNat, 0]

def k0_chk574 (i : grid0.Coords) (v966 : BitVec 32) : Prop :=
  (∀ (k0_h3 : k0_cond3 i = 1#1), 8 ∣ (k0_mult1147 v966).toNat) ∧
  (∀ (k0_h3 : k0_cond3 i = 1#1), ∀ a, (k0_off2313 v966) a + S8x128.size a ≤ S131072x128.size a)
theorem k0_mult1147_dvd : ∀ (i : grid0.Coords) (v966 : BitVec 32) (k0_hw574 : k0_chk574 i v966), ∀ (k0_h3 : k0_cond3 i = 1#1), 8 ∣ (k0_mult1147 v966).toNat := fun i v966 k0_hw574 k0_h3 => k0_hw574.1 k0_h3
theorem k0_off2313_inb : ∀ (i : grid0.Coords) (v966 : BitVec 32) (k0_hw574 : k0_chk574 i v966), ∀ (k0_h3 : k0_cond3 i = 1#1), ∀ a, (k0_off2313 v966) a + S8x128.size a ≤ S131072x128.size a := fun i v966 k0_hw574 k0_h3 => k0_hw574.2 k0_h3

def k0_off2314 (i : grid0.Coords) : Fin 3 → Nat :=
  let c0_588 : Index := 0#32
  let c0_589 : Index := 0#32
  let arg1 : BitVec 32 := BitVec.ofNat 32 (i 1).val
  let c2_i32_584 : BitVec 32 := 2#32
  let v975 : BitVec 32 := Scalar.muli arg1 c2_i32_584
  let c0_i32_585 : BitVec 32 := 0#32
  let v976 : BitVec 32 := Scalar.addi v975 c0_i32_585
  let c256_i32_586 : BitVec 32 := 256#32
  let v977 : BitVec 32 := Scalar.muli v976 c256_i32_586
  let c61_i32 : BitVec 32 := 61#32
  let v978 : BitVec 32 := Scalar.addi v977 c61_i32
  let v980 : Index := Scalar.indexCast v978
  ![0, 0, v980.toNat]
def k0_mult1149 (v981 : BitVec 32) : BitVec 32 :=
  v981

def k0_mult1150 (i : grid0.Coords) : BitVec 32 :=
  let arg1 : BitVec 32 := BitVec.ofNat 32 (i 1).val
  let c2_i32_584 : BitVec 32 := 2#32
  let v975 : BitVec 32 := Scalar.muli arg1 c2_i32_584
  let c0_i32_585 : BitVec 32 := 0#32
  let v976 : BitVec 32 := Scalar.addi v975 c0_i32_585
  let c256_i32_586 : BitVec 32 := 256#32
  let v977 : BitVec 32 := Scalar.muli v976 c256_i32_586
  let c61_i32 : BitVec 32 := 61#32
  let v978 : BitVec 32 := Scalar.addi v977 c61_i32
  let c8_i32_590 : BitVec 32 := 8#32
  let v983 : BitVec 32 := Scalar.muli v978 c8_i32_590
  v983
def k0_off2315 (i : grid0.Coords) : Fin 1 → Nat :=
  let c1_i32_587 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v979 : BitVec 32 := Scalar.subi c1_i32_587 v9
  ![v979.toNat]
def k0_off2316 (i : grid0.Coords) : Fin 3 → Nat :=
  let c1_i32_587 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v979 : BitVec 32 := Scalar.subi c1_i32_587 v9
  let arg1 : BitVec 32 := BitVec.ofNat 32 (i 1).val
  let c2_i32_584 : BitVec 32 := 2#32
  let v975 : BitVec 32 := Scalar.muli arg1 c2_i32_584
  let c0_i32_585 : BitVec 32 := 0#32
  let v976 : BitVec 32 := Scalar.addi v975 c0_i32_585
  let c256_i32_586 : BitVec 32 := 256#32
  let v977 : BitVec 32 := Scalar.muli v976 c256_i32_586
  let c61_i32 : BitVec 32 := 61#32
  let v978 : BitVec 32 := Scalar.addi v977 c61_i32
  let c8_i32_590 : BitVec 32 := 8#32
  let v983 : BitVec 32 := Scalar.muli v978 c8_i32_590
  let v984 : BitVec 32 := v983
  let c0_i32_591 : BitVec 32 := 0#32
  ![v979.toNat, v984.toNat, 0]
def k0_off2317 (v981 : BitVec 32) : Fin 2 → Nat :=
  let v982 : BitVec 32 := v981
  let c0_i32_592 : BitVec 32 := 0#32
  ![v982.toNat, 0]

def k0_chk575 (i : grid0.Coords) (v981 : BitVec 32) : Prop :=
  (∀ (k0_h3 : k0_cond3 i = 1#1), 8 ∣ (k0_mult1149 v981).toNat) ∧
  (∀ (k0_h3 : k0_cond3 i = 1#1), ∀ a, (k0_off2317 v981) a + S8x128.size a ≤ S131072x128.size a)
theorem k0_mult1149_dvd : ∀ (i : grid0.Coords) (v981 : BitVec 32) (k0_hw575 : k0_chk575 i v981), ∀ (k0_h3 : k0_cond3 i = 1#1), 8 ∣ (k0_mult1149 v981).toNat := fun i v981 k0_hw575 k0_h3 => k0_hw575.1 k0_h3
theorem k0_off2317_inb : ∀ (i : grid0.Coords) (v981 : BitVec 32) (k0_hw575 : k0_chk575 i v981), ∀ (k0_h3 : k0_cond3 i = 1#1), ∀ a, (k0_off2317 v981) a + S8x128.size a ≤ S131072x128.size a := fun i v981 k0_hw575 k0_h3 => k0_hw575.2 k0_h3

def k0_off2318 (i : grid0.Coords) : Fin 3 → Nat :=
  let c0_597 : Index := 0#32
  let c0_598 : Index := 0#32
  let arg1 : BitVec 32 := BitVec.ofNat 32 (i 1).val
  let c2_i32_593 : BitVec 32 := 2#32
  let v990 : BitVec 32 := Scalar.muli arg1 c2_i32_593
  let c0_i32_594 : BitVec 32 := 0#32
  let v991 : BitVec 32 := Scalar.addi v990 c0_i32_594
  let c256_i32_595 : BitVec 32 := 256#32
  let v992 : BitVec 32 := Scalar.muli v991 c256_i32_595
  let c62_i32 : BitVec 32 := 62#32
  let v993 : BitVec 32 := Scalar.addi v992 c62_i32
  let v995 : Index := Scalar.indexCast v993
  ![0, 0, v995.toNat]
def k0_mult1151 (v996 : BitVec 32) : BitVec 32 :=
  v996

def k0_mult1152 (i : grid0.Coords) : BitVec 32 :=
  let arg1 : BitVec 32 := BitVec.ofNat 32 (i 1).val
  let c2_i32_593 : BitVec 32 := 2#32
  let v990 : BitVec 32 := Scalar.muli arg1 c2_i32_593
  let c0_i32_594 : BitVec 32 := 0#32
  let v991 : BitVec 32 := Scalar.addi v990 c0_i32_594
  let c256_i32_595 : BitVec 32 := 256#32
  let v992 : BitVec 32 := Scalar.muli v991 c256_i32_595
  let c62_i32 : BitVec 32 := 62#32
  let v993 : BitVec 32 := Scalar.addi v992 c62_i32
  let c8_i32_599 : BitVec 32 := 8#32
  let v998 : BitVec 32 := Scalar.muli v993 c8_i32_599
  v998
def k0_off2319 (i : grid0.Coords) : Fin 1 → Nat :=
  let c1_i32_596 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v994 : BitVec 32 := Scalar.subi c1_i32_596 v9
  ![v994.toNat]
def k0_off2320 (i : grid0.Coords) : Fin 3 → Nat :=
  let c1_i32_596 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v994 : BitVec 32 := Scalar.subi c1_i32_596 v9
  let arg1 : BitVec 32 := BitVec.ofNat 32 (i 1).val
  let c2_i32_593 : BitVec 32 := 2#32
  let v990 : BitVec 32 := Scalar.muli arg1 c2_i32_593
  let c0_i32_594 : BitVec 32 := 0#32
  let v991 : BitVec 32 := Scalar.addi v990 c0_i32_594
  let c256_i32_595 : BitVec 32 := 256#32
  let v992 : BitVec 32 := Scalar.muli v991 c256_i32_595
  let c62_i32 : BitVec 32 := 62#32
  let v993 : BitVec 32 := Scalar.addi v992 c62_i32
  let c8_i32_599 : BitVec 32 := 8#32
  let v998 : BitVec 32 := Scalar.muli v993 c8_i32_599
  let v999 : BitVec 32 := v998
  let c0_i32_600 : BitVec 32 := 0#32
  ![v994.toNat, v999.toNat, 0]
def k0_off2321 (v996 : BitVec 32) : Fin 2 → Nat :=
  let v997 : BitVec 32 := v996
  let c0_i32_601 : BitVec 32 := 0#32
  ![v997.toNat, 0]

def k0_chk576 (i : grid0.Coords) (v996 : BitVec 32) : Prop :=
  (∀ (k0_h3 : k0_cond3 i = 1#1), 8 ∣ (k0_mult1151 v996).toNat) ∧
  (∀ (k0_h3 : k0_cond3 i = 1#1), ∀ a, (k0_off2321 v996) a + S8x128.size a ≤ S131072x128.size a)
theorem k0_mult1151_dvd : ∀ (i : grid0.Coords) (v996 : BitVec 32) (k0_hw576 : k0_chk576 i v996), ∀ (k0_h3 : k0_cond3 i = 1#1), 8 ∣ (k0_mult1151 v996).toNat := fun i v996 k0_hw576 k0_h3 => k0_hw576.1 k0_h3
theorem k0_off2321_inb : ∀ (i : grid0.Coords) (v996 : BitVec 32) (k0_hw576 : k0_chk576 i v996), ∀ (k0_h3 : k0_cond3 i = 1#1), ∀ a, (k0_off2321 v996) a + S8x128.size a ≤ S131072x128.size a := fun i v996 k0_hw576 k0_h3 => k0_hw576.2 k0_h3

def k0_off2322 (i : grid0.Coords) : Fin 3 → Nat :=
  let c0_606 : Index := 0#32
  let c0_607 : Index := 0#32
  let arg1 : BitVec 32 := BitVec.ofNat 32 (i 1).val
  let c2_i32_602 : BitVec 32 := 2#32
  let v1005 : BitVec 32 := Scalar.muli arg1 c2_i32_602
  let c0_i32_603 : BitVec 32 := 0#32
  let v1006 : BitVec 32 := Scalar.addi v1005 c0_i32_603
  let c256_i32_604 : BitVec 32 := 256#32
  let v1007 : BitVec 32 := Scalar.muli v1006 c256_i32_604
  let c63_i32 : BitVec 32 := 63#32
  let v1008 : BitVec 32 := Scalar.addi v1007 c63_i32
  let v1010 : Index := Scalar.indexCast v1008
  ![0, 0, v1010.toNat]
def k0_mult1153 (v1011 : BitVec 32) : BitVec 32 :=
  v1011

def k0_mult1154 (i : grid0.Coords) : BitVec 32 :=
  let arg1 : BitVec 32 := BitVec.ofNat 32 (i 1).val
  let c2_i32_602 : BitVec 32 := 2#32
  let v1005 : BitVec 32 := Scalar.muli arg1 c2_i32_602
  let c0_i32_603 : BitVec 32 := 0#32
  let v1006 : BitVec 32 := Scalar.addi v1005 c0_i32_603
  let c256_i32_604 : BitVec 32 := 256#32
  let v1007 : BitVec 32 := Scalar.muli v1006 c256_i32_604
  let c63_i32 : BitVec 32 := 63#32
  let v1008 : BitVec 32 := Scalar.addi v1007 c63_i32
  let c8_i32_608 : BitVec 32 := 8#32
  let v1013 : BitVec 32 := Scalar.muli v1008 c8_i32_608
  v1013
def k0_off2323 (i : grid0.Coords) : Fin 1 → Nat :=
  let c1_i32_605 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1009 : BitVec 32 := Scalar.subi c1_i32_605 v9
  ![v1009.toNat]
def k0_off2324 (i : grid0.Coords) : Fin 3 → Nat :=
  let c1_i32_605 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1009 : BitVec 32 := Scalar.subi c1_i32_605 v9
  let arg1 : BitVec 32 := BitVec.ofNat 32 (i 1).val
  let c2_i32_602 : BitVec 32 := 2#32
  let v1005 : BitVec 32 := Scalar.muli arg1 c2_i32_602
  let c0_i32_603 : BitVec 32 := 0#32
  let v1006 : BitVec 32 := Scalar.addi v1005 c0_i32_603
  let c256_i32_604 : BitVec 32 := 256#32
  let v1007 : BitVec 32 := Scalar.muli v1006 c256_i32_604
  let c63_i32 : BitVec 32 := 63#32
  let v1008 : BitVec 32 := Scalar.addi v1007 c63_i32
  let c8_i32_608 : BitVec 32 := 8#32
  let v1013 : BitVec 32 := Scalar.muli v1008 c8_i32_608
  let v1014 : BitVec 32 := v1013
  let c0_i32_609 : BitVec 32 := 0#32
  ![v1009.toNat, v1014.toNat, 0]
def k0_off2325 (v1011 : BitVec 32) : Fin 2 → Nat :=
  let v1012 : BitVec 32 := v1011
  let c0_i32_610 : BitVec 32 := 0#32
  ![v1012.toNat, 0]

def k0_chk577 (i : grid0.Coords) (v1011 : BitVec 32) : Prop :=
  (∀ (k0_h3 : k0_cond3 i = 1#1), 8 ∣ (k0_mult1153 v1011).toNat) ∧
  (∀ (k0_h3 : k0_cond3 i = 1#1), ∀ a, (k0_off2325 v1011) a + S8x128.size a ≤ S131072x128.size a)
theorem k0_mult1153_dvd : ∀ (i : grid0.Coords) (v1011 : BitVec 32) (k0_hw577 : k0_chk577 i v1011), ∀ (k0_h3 : k0_cond3 i = 1#1), 8 ∣ (k0_mult1153 v1011).toNat := fun i v1011 k0_hw577 k0_h3 => k0_hw577.1 k0_h3
theorem k0_off2325_inb : ∀ (i : grid0.Coords) (v1011 : BitVec 32) (k0_hw577 : k0_chk577 i v1011), ∀ (k0_h3 : k0_cond3 i = 1#1), ∀ a, (k0_off2325 v1011) a + S8x128.size a ≤ S131072x128.size a := fun i v1011 k0_hw577 k0_h3 => k0_hw577.2 k0_h3

def k0_off2326 (i : grid0.Coords) : Fin 3 → Nat :=
  let c0_615 : Index := 0#32
  let c0_616 : Index := 0#32
  let arg1 : BitVec 32 := BitVec.ofNat 32 (i 1).val
  let c2_i32_611 : BitVec 32 := 2#32
  let v1020 : BitVec 32 := Scalar.muli arg1 c2_i32_611
  let c0_i32_612 : BitVec 32 := 0#32
  let v1021 : BitVec 32 := Scalar.addi v1020 c0_i32_612
  let c256_i32_613 : BitVec 32 := 256#32
  let v1022 : BitVec 32 := Scalar.muli v1021 c256_i32_613
  let c64_i32 : BitVec 32 := 64#32
  let v1023 : BitVec 32 := Scalar.addi v1022 c64_i32
  let v1025 : Index := Scalar.indexCast v1023
  ![0, 0, v1025.toNat]
def k0_mult1155 (v1026 : BitVec 32) : BitVec 32 :=
  v1026

def k0_mult1156 (i : grid0.Coords) : BitVec 32 :=
  let arg1 : BitVec 32 := BitVec.ofNat 32 (i 1).val
  let c2_i32_611 : BitVec 32 := 2#32
  let v1020 : BitVec 32 := Scalar.muli arg1 c2_i32_611
  let c0_i32_612 : BitVec 32 := 0#32
  let v1021 : BitVec 32 := Scalar.addi v1020 c0_i32_612
  let c256_i32_613 : BitVec 32 := 256#32
  let v1022 : BitVec 32 := Scalar.muli v1021 c256_i32_613
  let c64_i32 : BitVec 32 := 64#32
  let v1023 : BitVec 32 := Scalar.addi v1022 c64_i32
  let c8_i32_617 : BitVec 32 := 8#32
  let v1028 : BitVec 32 := Scalar.muli v1023 c8_i32_617
  v1028
def k0_off2327 (i : grid0.Coords) : Fin 1 → Nat :=
  let c1_i32_614 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1024 : BitVec 32 := Scalar.subi c1_i32_614 v9
  ![v1024.toNat]
def k0_off2328 (i : grid0.Coords) : Fin 3 → Nat :=
  let c1_i32_614 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1024 : BitVec 32 := Scalar.subi c1_i32_614 v9
  let arg1 : BitVec 32 := BitVec.ofNat 32 (i 1).val
  let c2_i32_611 : BitVec 32 := 2#32
  let v1020 : BitVec 32 := Scalar.muli arg1 c2_i32_611
  let c0_i32_612 : BitVec 32 := 0#32
  let v1021 : BitVec 32 := Scalar.addi v1020 c0_i32_612
  let c256_i32_613 : BitVec 32 := 256#32
  let v1022 : BitVec 32 := Scalar.muli v1021 c256_i32_613
  let c64_i32 : BitVec 32 := 64#32
  let v1023 : BitVec 32 := Scalar.addi v1022 c64_i32
  let c8_i32_617 : BitVec 32 := 8#32
  let v1028 : BitVec 32 := Scalar.muli v1023 c8_i32_617
  let v1029 : BitVec 32 := v1028
  let c0_i32_618 : BitVec 32 := 0#32
  ![v1024.toNat, v1029.toNat, 0]
def k0_off2329 (v1026 : BitVec 32) : Fin 2 → Nat :=
  let v1027 : BitVec 32 := v1026
  let c0_i32_619 : BitVec 32 := 0#32
  ![v1027.toNat, 0]

def k0_chk578 (i : grid0.Coords) (v1026 : BitVec 32) : Prop :=
  (∀ (k0_h3 : k0_cond3 i = 1#1), 8 ∣ (k0_mult1155 v1026).toNat) ∧
  (∀ (k0_h3 : k0_cond3 i = 1#1), ∀ a, (k0_off2329 v1026) a + S8x128.size a ≤ S131072x128.size a)
theorem k0_mult1155_dvd : ∀ (i : grid0.Coords) (v1026 : BitVec 32) (k0_hw578 : k0_chk578 i v1026), ∀ (k0_h3 : k0_cond3 i = 1#1), 8 ∣ (k0_mult1155 v1026).toNat := fun i v1026 k0_hw578 k0_h3 => k0_hw578.1 k0_h3
theorem k0_off2329_inb : ∀ (i : grid0.Coords) (v1026 : BitVec 32) (k0_hw578 : k0_chk578 i v1026), ∀ (k0_h3 : k0_cond3 i = 1#1), ∀ a, (k0_off2329 v1026) a + S8x128.size a ≤ S131072x128.size a := fun i v1026 k0_hw578 k0_h3 => k0_hw578.2 k0_h3

def k0_off2330 (i : grid0.Coords) : Fin 3 → Nat :=
  let c0_624 : Index := 0#32
  let c0_625 : Index := 0#32
  let arg1 : BitVec 32 := BitVec.ofNat 32 (i 1).val
  let c2_i32_620 : BitVec 32 := 2#32
  let v1035 : BitVec 32 := Scalar.muli arg1 c2_i32_620
  let c0_i32_621 : BitVec 32 := 0#32
  let v1036 : BitVec 32 := Scalar.addi v1035 c0_i32_621
  let c256_i32_622 : BitVec 32 := 256#32
  let v1037 : BitVec 32 := Scalar.muli v1036 c256_i32_622
  let c65_i32 : BitVec 32 := 65#32
  let v1038 : BitVec 32 := Scalar.addi v1037 c65_i32
  let v1040 : Index := Scalar.indexCast v1038
  ![0, 0, v1040.toNat]
def k0_mult1157 (v1041 : BitVec 32) : BitVec 32 :=
  v1041

def k0_mult1158 (i : grid0.Coords) : BitVec 32 :=
  let arg1 : BitVec 32 := BitVec.ofNat 32 (i 1).val
  let c2_i32_620 : BitVec 32 := 2#32
  let v1035 : BitVec 32 := Scalar.muli arg1 c2_i32_620
  let c0_i32_621 : BitVec 32 := 0#32
  let v1036 : BitVec 32 := Scalar.addi v1035 c0_i32_621
  let c256_i32_622 : BitVec 32 := 256#32
  let v1037 : BitVec 32 := Scalar.muli v1036 c256_i32_622
  let c65_i32 : BitVec 32 := 65#32
  let v1038 : BitVec 32 := Scalar.addi v1037 c65_i32
  let c8_i32_626 : BitVec 32 := 8#32
  let v1043 : BitVec 32 := Scalar.muli v1038 c8_i32_626
  v1043
def k0_off2331 (i : grid0.Coords) : Fin 1 → Nat :=
  let c1_i32_623 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1039 : BitVec 32 := Scalar.subi c1_i32_623 v9
  ![v1039.toNat]
def k0_off2332 (i : grid0.Coords) : Fin 3 → Nat :=
  let c1_i32_623 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1039 : BitVec 32 := Scalar.subi c1_i32_623 v9
  let arg1 : BitVec 32 := BitVec.ofNat 32 (i 1).val
  let c2_i32_620 : BitVec 32 := 2#32
  let v1035 : BitVec 32 := Scalar.muli arg1 c2_i32_620
  let c0_i32_621 : BitVec 32 := 0#32
  let v1036 : BitVec 32 := Scalar.addi v1035 c0_i32_621
  let c256_i32_622 : BitVec 32 := 256#32
  let v1037 : BitVec 32 := Scalar.muli v1036 c256_i32_622
  let c65_i32 : BitVec 32 := 65#32
  let v1038 : BitVec 32 := Scalar.addi v1037 c65_i32
  let c8_i32_626 : BitVec 32 := 8#32
  let v1043 : BitVec 32 := Scalar.muli v1038 c8_i32_626
  let v1044 : BitVec 32 := v1043
  let c0_i32_627 : BitVec 32 := 0#32
  ![v1039.toNat, v1044.toNat, 0]
def k0_off2333 (v1041 : BitVec 32) : Fin 2 → Nat :=
  let v1042 : BitVec 32 := v1041
  let c0_i32_628 : BitVec 32 := 0#32
  ![v1042.toNat, 0]

def k0_chk579 (i : grid0.Coords) (v1041 : BitVec 32) : Prop :=
  (∀ (k0_h3 : k0_cond3 i = 1#1), 8 ∣ (k0_mult1157 v1041).toNat) ∧
  (∀ (k0_h3 : k0_cond3 i = 1#1), ∀ a, (k0_off2333 v1041) a + S8x128.size a ≤ S131072x128.size a)
theorem k0_mult1157_dvd : ∀ (i : grid0.Coords) (v1041 : BitVec 32) (k0_hw579 : k0_chk579 i v1041), ∀ (k0_h3 : k0_cond3 i = 1#1), 8 ∣ (k0_mult1157 v1041).toNat := fun i v1041 k0_hw579 k0_h3 => k0_hw579.1 k0_h3
theorem k0_off2333_inb : ∀ (i : grid0.Coords) (v1041 : BitVec 32) (k0_hw579 : k0_chk579 i v1041), ∀ (k0_h3 : k0_cond3 i = 1#1), ∀ a, (k0_off2333 v1041) a + S8x128.size a ≤ S131072x128.size a := fun i v1041 k0_hw579 k0_h3 => k0_hw579.2 k0_h3

def k0_off2334 (i : grid0.Coords) : Fin 3 → Nat :=
  let c0_633 : Index := 0#32
  let c0_634 : Index := 0#32
  let arg1 : BitVec 32 := BitVec.ofNat 32 (i 1).val
  let c2_i32_629 : BitVec 32 := 2#32
  let v1050 : BitVec 32 := Scalar.muli arg1 c2_i32_629
  let c0_i32_630 : BitVec 32 := 0#32
  let v1051 : BitVec 32 := Scalar.addi v1050 c0_i32_630
  let c256_i32_631 : BitVec 32 := 256#32
  let v1052 : BitVec 32 := Scalar.muli v1051 c256_i32_631
  let c66_i32 : BitVec 32 := 66#32
  let v1053 : BitVec 32 := Scalar.addi v1052 c66_i32
  let v1055 : Index := Scalar.indexCast v1053
  ![0, 0, v1055.toNat]
def k0_mult1159 (v1056 : BitVec 32) : BitVec 32 :=
  v1056

def k0_mult1160 (i : grid0.Coords) : BitVec 32 :=
  let arg1 : BitVec 32 := BitVec.ofNat 32 (i 1).val
  let c2_i32_629 : BitVec 32 := 2#32
  let v1050 : BitVec 32 := Scalar.muli arg1 c2_i32_629
  let c0_i32_630 : BitVec 32 := 0#32
  let v1051 : BitVec 32 := Scalar.addi v1050 c0_i32_630
  let c256_i32_631 : BitVec 32 := 256#32
  let v1052 : BitVec 32 := Scalar.muli v1051 c256_i32_631
  let c66_i32 : BitVec 32 := 66#32
  let v1053 : BitVec 32 := Scalar.addi v1052 c66_i32
  let c8_i32_635 : BitVec 32 := 8#32
  let v1058 : BitVec 32 := Scalar.muli v1053 c8_i32_635
  v1058
def k0_off2335 (i : grid0.Coords) : Fin 1 → Nat :=
  let c1_i32_632 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1054 : BitVec 32 := Scalar.subi c1_i32_632 v9
  ![v1054.toNat]
def k0_off2336 (i : grid0.Coords) : Fin 3 → Nat :=
  let c1_i32_632 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1054 : BitVec 32 := Scalar.subi c1_i32_632 v9
  let arg1 : BitVec 32 := BitVec.ofNat 32 (i 1).val
  let c2_i32_629 : BitVec 32 := 2#32
  let v1050 : BitVec 32 := Scalar.muli arg1 c2_i32_629
  let c0_i32_630 : BitVec 32 := 0#32
  let v1051 : BitVec 32 := Scalar.addi v1050 c0_i32_630
  let c256_i32_631 : BitVec 32 := 256#32
  let v1052 : BitVec 32 := Scalar.muli v1051 c256_i32_631
  let c66_i32 : BitVec 32 := 66#32
  let v1053 : BitVec 32 := Scalar.addi v1052 c66_i32
  let c8_i32_635 : BitVec 32 := 8#32
  let v1058 : BitVec 32 := Scalar.muli v1053 c8_i32_635
  let v1059 : BitVec 32 := v1058
  let c0_i32_636 : BitVec 32 := 0#32
  ![v1054.toNat, v1059.toNat, 0]
def k0_off2337 (v1056 : BitVec 32) : Fin 2 → Nat :=
  let v1057 : BitVec 32 := v1056
  let c0_i32_637 : BitVec 32 := 0#32
  ![v1057.toNat, 0]

def k0_chk580 (i : grid0.Coords) (v1056 : BitVec 32) : Prop :=
  (∀ (k0_h3 : k0_cond3 i = 1#1), 8 ∣ (k0_mult1159 v1056).toNat) ∧
  (∀ (k0_h3 : k0_cond3 i = 1#1), ∀ a, (k0_off2337 v1056) a + S8x128.size a ≤ S131072x128.size a)
theorem k0_mult1159_dvd : ∀ (i : grid0.Coords) (v1056 : BitVec 32) (k0_hw580 : k0_chk580 i v1056), ∀ (k0_h3 : k0_cond3 i = 1#1), 8 ∣ (k0_mult1159 v1056).toNat := fun i v1056 k0_hw580 k0_h3 => k0_hw580.1 k0_h3
theorem k0_off2337_inb : ∀ (i : grid0.Coords) (v1056 : BitVec 32) (k0_hw580 : k0_chk580 i v1056), ∀ (k0_h3 : k0_cond3 i = 1#1), ∀ a, (k0_off2337 v1056) a + S8x128.size a ≤ S131072x128.size a := fun i v1056 k0_hw580 k0_h3 => k0_hw580.2 k0_h3

def k0_off2338 (i : grid0.Coords) : Fin 3 → Nat :=
  let c0_642 : Index := 0#32
  let c0_643 : Index := 0#32
  let arg1 : BitVec 32 := BitVec.ofNat 32 (i 1).val
  let c2_i32_638 : BitVec 32 := 2#32
  let v1065 : BitVec 32 := Scalar.muli arg1 c2_i32_638
  let c0_i32_639 : BitVec 32 := 0#32
  let v1066 : BitVec 32 := Scalar.addi v1065 c0_i32_639
  let c256_i32_640 : BitVec 32 := 256#32
  let v1067 : BitVec 32 := Scalar.muli v1066 c256_i32_640
  let c67_i32 : BitVec 32 := 67#32
  let v1068 : BitVec 32 := Scalar.addi v1067 c67_i32
  let v1070 : Index := Scalar.indexCast v1068
  ![0, 0, v1070.toNat]
def k0_mult1161 (v1071 : BitVec 32) : BitVec 32 :=
  v1071

def k0_mult1162 (i : grid0.Coords) : BitVec 32 :=
  let arg1 : BitVec 32 := BitVec.ofNat 32 (i 1).val
  let c2_i32_638 : BitVec 32 := 2#32
  let v1065 : BitVec 32 := Scalar.muli arg1 c2_i32_638
  let c0_i32_639 : BitVec 32 := 0#32
  let v1066 : BitVec 32 := Scalar.addi v1065 c0_i32_639
  let c256_i32_640 : BitVec 32 := 256#32
  let v1067 : BitVec 32 := Scalar.muli v1066 c256_i32_640
  let c67_i32 : BitVec 32 := 67#32
  let v1068 : BitVec 32 := Scalar.addi v1067 c67_i32
  let c8_i32_644 : BitVec 32 := 8#32
  let v1073 : BitVec 32 := Scalar.muli v1068 c8_i32_644
  v1073
def k0_off2339 (i : grid0.Coords) : Fin 1 → Nat :=
  let c1_i32_641 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1069 : BitVec 32 := Scalar.subi c1_i32_641 v9
  ![v1069.toNat]
def k0_off2340 (i : grid0.Coords) : Fin 3 → Nat :=
  let c1_i32_641 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1069 : BitVec 32 := Scalar.subi c1_i32_641 v9
  let arg1 : BitVec 32 := BitVec.ofNat 32 (i 1).val
  let c2_i32_638 : BitVec 32 := 2#32
  let v1065 : BitVec 32 := Scalar.muli arg1 c2_i32_638
  let c0_i32_639 : BitVec 32 := 0#32
  let v1066 : BitVec 32 := Scalar.addi v1065 c0_i32_639
  let c256_i32_640 : BitVec 32 := 256#32
  let v1067 : BitVec 32 := Scalar.muli v1066 c256_i32_640
  let c67_i32 : BitVec 32 := 67#32
  let v1068 : BitVec 32 := Scalar.addi v1067 c67_i32
  let c8_i32_644 : BitVec 32 := 8#32
  let v1073 : BitVec 32 := Scalar.muli v1068 c8_i32_644
  let v1074 : BitVec 32 := v1073
  let c0_i32_645 : BitVec 32 := 0#32
  ![v1069.toNat, v1074.toNat, 0]
def k0_off2341 (v1071 : BitVec 32) : Fin 2 → Nat :=
  let v1072 : BitVec 32 := v1071
  let c0_i32_646 : BitVec 32 := 0#32
  ![v1072.toNat, 0]

def k0_chk581 (i : grid0.Coords) (v1071 : BitVec 32) : Prop :=
  (∀ (k0_h3 : k0_cond3 i = 1#1), 8 ∣ (k0_mult1161 v1071).toNat) ∧
  (∀ (k0_h3 : k0_cond3 i = 1#1), ∀ a, (k0_off2341 v1071) a + S8x128.size a ≤ S131072x128.size a)
theorem k0_mult1161_dvd : ∀ (i : grid0.Coords) (v1071 : BitVec 32) (k0_hw581 : k0_chk581 i v1071), ∀ (k0_h3 : k0_cond3 i = 1#1), 8 ∣ (k0_mult1161 v1071).toNat := fun i v1071 k0_hw581 k0_h3 => k0_hw581.1 k0_h3
theorem k0_off2341_inb : ∀ (i : grid0.Coords) (v1071 : BitVec 32) (k0_hw581 : k0_chk581 i v1071), ∀ (k0_h3 : k0_cond3 i = 1#1), ∀ a, (k0_off2341 v1071) a + S8x128.size a ≤ S131072x128.size a := fun i v1071 k0_hw581 k0_h3 => k0_hw581.2 k0_h3

def k0_off2342 (i : grid0.Coords) : Fin 3 → Nat :=
  let c0_651 : Index := 0#32
  let c0_652 : Index := 0#32
  let arg1 : BitVec 32 := BitVec.ofNat 32 (i 1).val
  let c2_i32_647 : BitVec 32 := 2#32
  let v1080 : BitVec 32 := Scalar.muli arg1 c2_i32_647
  let c0_i32_648 : BitVec 32 := 0#32
  let v1081 : BitVec 32 := Scalar.addi v1080 c0_i32_648
  let c256_i32_649 : BitVec 32 := 256#32
  let v1082 : BitVec 32 := Scalar.muli v1081 c256_i32_649
  let c68_i32 : BitVec 32 := 68#32
  let v1083 : BitVec 32 := Scalar.addi v1082 c68_i32
  let v1085 : Index := Scalar.indexCast v1083
  ![0, 0, v1085.toNat]
def k0_mult1163 (v1086 : BitVec 32) : BitVec 32 :=
  v1086

def k0_mult1164 (i : grid0.Coords) : BitVec 32 :=
  let arg1 : BitVec 32 := BitVec.ofNat 32 (i 1).val
  let c2_i32_647 : BitVec 32 := 2#32
  let v1080 : BitVec 32 := Scalar.muli arg1 c2_i32_647
  let c0_i32_648 : BitVec 32 := 0#32
  let v1081 : BitVec 32 := Scalar.addi v1080 c0_i32_648
  let c256_i32_649 : BitVec 32 := 256#32
  let v1082 : BitVec 32 := Scalar.muli v1081 c256_i32_649
  let c68_i32 : BitVec 32 := 68#32
  let v1083 : BitVec 32 := Scalar.addi v1082 c68_i32
  let c8_i32_653 : BitVec 32 := 8#32
  let v1088 : BitVec 32 := Scalar.muli v1083 c8_i32_653
  v1088
def k0_off2343 (i : grid0.Coords) : Fin 1 → Nat :=
  let c1_i32_650 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1084 : BitVec 32 := Scalar.subi c1_i32_650 v9
  ![v1084.toNat]
def k0_off2344 (i : grid0.Coords) : Fin 3 → Nat :=
  let c1_i32_650 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1084 : BitVec 32 := Scalar.subi c1_i32_650 v9
  let arg1 : BitVec 32 := BitVec.ofNat 32 (i 1).val
  let c2_i32_647 : BitVec 32 := 2#32
  let v1080 : BitVec 32 := Scalar.muli arg1 c2_i32_647
  let c0_i32_648 : BitVec 32 := 0#32
  let v1081 : BitVec 32 := Scalar.addi v1080 c0_i32_648
  let c256_i32_649 : BitVec 32 := 256#32
  let v1082 : BitVec 32 := Scalar.muli v1081 c256_i32_649
  let c68_i32 : BitVec 32 := 68#32
  let v1083 : BitVec 32 := Scalar.addi v1082 c68_i32
  let c8_i32_653 : BitVec 32 := 8#32
  let v1088 : BitVec 32 := Scalar.muli v1083 c8_i32_653
  let v1089 : BitVec 32 := v1088
  let c0_i32_654 : BitVec 32 := 0#32
  ![v1084.toNat, v1089.toNat, 0]
def k0_off2345 (v1086 : BitVec 32) : Fin 2 → Nat :=
  let v1087 : BitVec 32 := v1086
  let c0_i32_655 : BitVec 32 := 0#32
  ![v1087.toNat, 0]

def k0_chk582 (i : grid0.Coords) (v1086 : BitVec 32) : Prop :=
  (∀ (k0_h3 : k0_cond3 i = 1#1), 8 ∣ (k0_mult1163 v1086).toNat) ∧
  (∀ (k0_h3 : k0_cond3 i = 1#1), ∀ a, (k0_off2345 v1086) a + S8x128.size a ≤ S131072x128.size a)
theorem k0_mult1163_dvd : ∀ (i : grid0.Coords) (v1086 : BitVec 32) (k0_hw582 : k0_chk582 i v1086), ∀ (k0_h3 : k0_cond3 i = 1#1), 8 ∣ (k0_mult1163 v1086).toNat := fun i v1086 k0_hw582 k0_h3 => k0_hw582.1 k0_h3
theorem k0_off2345_inb : ∀ (i : grid0.Coords) (v1086 : BitVec 32) (k0_hw582 : k0_chk582 i v1086), ∀ (k0_h3 : k0_cond3 i = 1#1), ∀ a, (k0_off2345 v1086) a + S8x128.size a ≤ S131072x128.size a := fun i v1086 k0_hw582 k0_h3 => k0_hw582.2 k0_h3

def k0_off2346 (i : grid0.Coords) : Fin 3 → Nat :=
  let c0_660 : Index := 0#32
  let c0_661 : Index := 0#32
  let arg1 : BitVec 32 := BitVec.ofNat 32 (i 1).val
  let c2_i32_656 : BitVec 32 := 2#32
  let v1095 : BitVec 32 := Scalar.muli arg1 c2_i32_656
  let c0_i32_657 : BitVec 32 := 0#32
  let v1096 : BitVec 32 := Scalar.addi v1095 c0_i32_657
  let c256_i32_658 : BitVec 32 := 256#32
  let v1097 : BitVec 32 := Scalar.muli v1096 c256_i32_658
  let c69_i32 : BitVec 32 := 69#32
  let v1098 : BitVec 32 := Scalar.addi v1097 c69_i32
  let v1100 : Index := Scalar.indexCast v1098
  ![0, 0, v1100.toNat]
def k0_mult1165 (v1101 : BitVec 32) : BitVec 32 :=
  v1101

def k0_mult1166 (i : grid0.Coords) : BitVec 32 :=
  let arg1 : BitVec 32 := BitVec.ofNat 32 (i 1).val
  let c2_i32_656 : BitVec 32 := 2#32
  let v1095 : BitVec 32 := Scalar.muli arg1 c2_i32_656
  let c0_i32_657 : BitVec 32 := 0#32
  let v1096 : BitVec 32 := Scalar.addi v1095 c0_i32_657
  let c256_i32_658 : BitVec 32 := 256#32
  let v1097 : BitVec 32 := Scalar.muli v1096 c256_i32_658
  let c69_i32 : BitVec 32 := 69#32
  let v1098 : BitVec 32 := Scalar.addi v1097 c69_i32
  let c8_i32_662 : BitVec 32 := 8#32
  let v1103 : BitVec 32 := Scalar.muli v1098 c8_i32_662
  v1103
def k0_off2347 (i : grid0.Coords) : Fin 1 → Nat :=
  let c1_i32_659 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1099 : BitVec 32 := Scalar.subi c1_i32_659 v9
  ![v1099.toNat]
def k0_off2348 (i : grid0.Coords) : Fin 3 → Nat :=
  let c1_i32_659 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1099 : BitVec 32 := Scalar.subi c1_i32_659 v9
  let arg1 : BitVec 32 := BitVec.ofNat 32 (i 1).val
  let c2_i32_656 : BitVec 32 := 2#32
  let v1095 : BitVec 32 := Scalar.muli arg1 c2_i32_656
  let c0_i32_657 : BitVec 32 := 0#32
  let v1096 : BitVec 32 := Scalar.addi v1095 c0_i32_657
  let c256_i32_658 : BitVec 32 := 256#32
  let v1097 : BitVec 32 := Scalar.muli v1096 c256_i32_658
  let c69_i32 : BitVec 32 := 69#32
  let v1098 : BitVec 32 := Scalar.addi v1097 c69_i32
  let c8_i32_662 : BitVec 32 := 8#32
  let v1103 : BitVec 32 := Scalar.muli v1098 c8_i32_662
  let v1104 : BitVec 32 := v1103
  let c0_i32_663 : BitVec 32 := 0#32
  ![v1099.toNat, v1104.toNat, 0]
def k0_off2349 (v1101 : BitVec 32) : Fin 2 → Nat :=
  let v1102 : BitVec 32 := v1101
  let c0_i32_664 : BitVec 32 := 0#32
  ![v1102.toNat, 0]

def k0_chk583 (i : grid0.Coords) (v1101 : BitVec 32) : Prop :=
  (∀ (k0_h3 : k0_cond3 i = 1#1), 8 ∣ (k0_mult1165 v1101).toNat) ∧
  (∀ (k0_h3 : k0_cond3 i = 1#1), ∀ a, (k0_off2349 v1101) a + S8x128.size a ≤ S131072x128.size a)
theorem k0_mult1165_dvd : ∀ (i : grid0.Coords) (v1101 : BitVec 32) (k0_hw583 : k0_chk583 i v1101), ∀ (k0_h3 : k0_cond3 i = 1#1), 8 ∣ (k0_mult1165 v1101).toNat := fun i v1101 k0_hw583 k0_h3 => k0_hw583.1 k0_h3
theorem k0_off2349_inb : ∀ (i : grid0.Coords) (v1101 : BitVec 32) (k0_hw583 : k0_chk583 i v1101), ∀ (k0_h3 : k0_cond3 i = 1#1), ∀ a, (k0_off2349 v1101) a + S8x128.size a ≤ S131072x128.size a := fun i v1101 k0_hw583 k0_h3 => k0_hw583.2 k0_h3

def k0_off2350 (i : grid0.Coords) : Fin 3 → Nat :=
  let c0_669 : Index := 0#32
  let c0_670 : Index := 0#32
  let arg1 : BitVec 32 := BitVec.ofNat 32 (i 1).val
  let c2_i32_665 : BitVec 32 := 2#32
  let v1110 : BitVec 32 := Scalar.muli arg1 c2_i32_665
  let c0_i32_666 : BitVec 32 := 0#32
  let v1111 : BitVec 32 := Scalar.addi v1110 c0_i32_666
  let c256_i32_667 : BitVec 32 := 256#32
  let v1112 : BitVec 32 := Scalar.muli v1111 c256_i32_667
  let c70_i32 : BitVec 32 := 70#32
  let v1113 : BitVec 32 := Scalar.addi v1112 c70_i32
  let v1115 : Index := Scalar.indexCast v1113
  ![0, 0, v1115.toNat]
def k0_mult1167 (v1116 : BitVec 32) : BitVec 32 :=
  v1116

def k0_mult1168 (i : grid0.Coords) : BitVec 32 :=
  let arg1 : BitVec 32 := BitVec.ofNat 32 (i 1).val
  let c2_i32_665 : BitVec 32 := 2#32
  let v1110 : BitVec 32 := Scalar.muli arg1 c2_i32_665
  let c0_i32_666 : BitVec 32 := 0#32
  let v1111 : BitVec 32 := Scalar.addi v1110 c0_i32_666
  let c256_i32_667 : BitVec 32 := 256#32
  let v1112 : BitVec 32 := Scalar.muli v1111 c256_i32_667
  let c70_i32 : BitVec 32 := 70#32
  let v1113 : BitVec 32 := Scalar.addi v1112 c70_i32
  let c8_i32_671 : BitVec 32 := 8#32
  let v1118 : BitVec 32 := Scalar.muli v1113 c8_i32_671
  v1118
def k0_off2351 (i : grid0.Coords) : Fin 1 → Nat :=
  let c1_i32_668 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1114 : BitVec 32 := Scalar.subi c1_i32_668 v9
  ![v1114.toNat]
def k0_off2352 (i : grid0.Coords) : Fin 3 → Nat :=
  let c1_i32_668 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1114 : BitVec 32 := Scalar.subi c1_i32_668 v9
  let arg1 : BitVec 32 := BitVec.ofNat 32 (i 1).val
  let c2_i32_665 : BitVec 32 := 2#32
  let v1110 : BitVec 32 := Scalar.muli arg1 c2_i32_665
  let c0_i32_666 : BitVec 32 := 0#32
  let v1111 : BitVec 32 := Scalar.addi v1110 c0_i32_666
  let c256_i32_667 : BitVec 32 := 256#32
  let v1112 : BitVec 32 := Scalar.muli v1111 c256_i32_667
  let c70_i32 : BitVec 32 := 70#32
  let v1113 : BitVec 32 := Scalar.addi v1112 c70_i32
  let c8_i32_671 : BitVec 32 := 8#32
  let v1118 : BitVec 32 := Scalar.muli v1113 c8_i32_671
  let v1119 : BitVec 32 := v1118
  let c0_i32_672 : BitVec 32 := 0#32
  ![v1114.toNat, v1119.toNat, 0]
def k0_off2353 (v1116 : BitVec 32) : Fin 2 → Nat :=
  let v1117 : BitVec 32 := v1116
  let c0_i32_673 : BitVec 32 := 0#32
  ![v1117.toNat, 0]

def k0_chk584 (i : grid0.Coords) (v1116 : BitVec 32) : Prop :=
  (∀ (k0_h3 : k0_cond3 i = 1#1), 8 ∣ (k0_mult1167 v1116).toNat) ∧
  (∀ (k0_h3 : k0_cond3 i = 1#1), ∀ a, (k0_off2353 v1116) a + S8x128.size a ≤ S131072x128.size a)
theorem k0_mult1167_dvd : ∀ (i : grid0.Coords) (v1116 : BitVec 32) (k0_hw584 : k0_chk584 i v1116), ∀ (k0_h3 : k0_cond3 i = 1#1), 8 ∣ (k0_mult1167 v1116).toNat := fun i v1116 k0_hw584 k0_h3 => k0_hw584.1 k0_h3
theorem k0_off2353_inb : ∀ (i : grid0.Coords) (v1116 : BitVec 32) (k0_hw584 : k0_chk584 i v1116), ∀ (k0_h3 : k0_cond3 i = 1#1), ∀ a, (k0_off2353 v1116) a + S8x128.size a ≤ S131072x128.size a := fun i v1116 k0_hw584 k0_h3 => k0_hw584.2 k0_h3

def k0_off2354 (i : grid0.Coords) : Fin 3 → Nat :=
  let c0_678 : Index := 0#32
  let c0_679 : Index := 0#32
  let arg1 : BitVec 32 := BitVec.ofNat 32 (i 1).val
  let c2_i32_674 : BitVec 32 := 2#32
  let v1125 : BitVec 32 := Scalar.muli arg1 c2_i32_674
  let c0_i32_675 : BitVec 32 := 0#32
  let v1126 : BitVec 32 := Scalar.addi v1125 c0_i32_675
  let c256_i32_676 : BitVec 32 := 256#32
  let v1127 : BitVec 32 := Scalar.muli v1126 c256_i32_676
  let c71_i32 : BitVec 32 := 71#32
  let v1128 : BitVec 32 := Scalar.addi v1127 c71_i32
  let v1130 : Index := Scalar.indexCast v1128
  ![0, 0, v1130.toNat]
def k0_mult1169 (v1131 : BitVec 32) : BitVec 32 :=
  v1131

def k0_mult1170 (i : grid0.Coords) : BitVec 32 :=
  let arg1 : BitVec 32 := BitVec.ofNat 32 (i 1).val
  let c2_i32_674 : BitVec 32 := 2#32
  let v1125 : BitVec 32 := Scalar.muli arg1 c2_i32_674
  let c0_i32_675 : BitVec 32 := 0#32
  let v1126 : BitVec 32 := Scalar.addi v1125 c0_i32_675
  let c256_i32_676 : BitVec 32 := 256#32
  let v1127 : BitVec 32 := Scalar.muli v1126 c256_i32_676
  let c71_i32 : BitVec 32 := 71#32
  let v1128 : BitVec 32 := Scalar.addi v1127 c71_i32
  let c8_i32_680 : BitVec 32 := 8#32
  let v1133 : BitVec 32 := Scalar.muli v1128 c8_i32_680
  v1133
def k0_off2355 (i : grid0.Coords) : Fin 1 → Nat :=
  let c1_i32_677 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1129 : BitVec 32 := Scalar.subi c1_i32_677 v9
  ![v1129.toNat]
def k0_off2356 (i : grid0.Coords) : Fin 3 → Nat :=
  let c1_i32_677 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1129 : BitVec 32 := Scalar.subi c1_i32_677 v9
  let arg1 : BitVec 32 := BitVec.ofNat 32 (i 1).val
  let c2_i32_674 : BitVec 32 := 2#32
  let v1125 : BitVec 32 := Scalar.muli arg1 c2_i32_674
  let c0_i32_675 : BitVec 32 := 0#32
  let v1126 : BitVec 32 := Scalar.addi v1125 c0_i32_675
  let c256_i32_676 : BitVec 32 := 256#32
  let v1127 : BitVec 32 := Scalar.muli v1126 c256_i32_676
  let c71_i32 : BitVec 32 := 71#32
  let v1128 : BitVec 32 := Scalar.addi v1127 c71_i32
  let c8_i32_680 : BitVec 32 := 8#32
  let v1133 : BitVec 32 := Scalar.muli v1128 c8_i32_680
  let v1134 : BitVec 32 := v1133
  let c0_i32_681 : BitVec 32 := 0#32
  ![v1129.toNat, v1134.toNat, 0]
def k0_off2357 (v1131 : BitVec 32) : Fin 2 → Nat :=
  let v1132 : BitVec 32 := v1131
  let c0_i32_682 : BitVec 32 := 0#32
  ![v1132.toNat, 0]

def k0_chk585 (i : grid0.Coords) (v1131 : BitVec 32) : Prop :=
  (∀ (k0_h3 : k0_cond3 i = 1#1), 8 ∣ (k0_mult1169 v1131).toNat) ∧
  (∀ (k0_h3 : k0_cond3 i = 1#1), ∀ a, (k0_off2357 v1131) a + S8x128.size a ≤ S131072x128.size a)
theorem k0_mult1169_dvd : ∀ (i : grid0.Coords) (v1131 : BitVec 32) (k0_hw585 : k0_chk585 i v1131), ∀ (k0_h3 : k0_cond3 i = 1#1), 8 ∣ (k0_mult1169 v1131).toNat := fun i v1131 k0_hw585 k0_h3 => k0_hw585.1 k0_h3
theorem k0_off2357_inb : ∀ (i : grid0.Coords) (v1131 : BitVec 32) (k0_hw585 : k0_chk585 i v1131), ∀ (k0_h3 : k0_cond3 i = 1#1), ∀ a, (k0_off2357 v1131) a + S8x128.size a ≤ S131072x128.size a := fun i v1131 k0_hw585 k0_h3 => k0_hw585.2 k0_h3

def k0_off2358 (i : grid0.Coords) : Fin 3 → Nat :=
  let c0_687 : Index := 0#32
  let c0_688 : Index := 0#32
  let arg1 : BitVec 32 := BitVec.ofNat 32 (i 1).val
  let c2_i32_683 : BitVec 32 := 2#32
  let v1140 : BitVec 32 := Scalar.muli arg1 c2_i32_683
  let c0_i32_684 : BitVec 32 := 0#32
  let v1141 : BitVec 32 := Scalar.addi v1140 c0_i32_684
  let c256_i32_685 : BitVec 32 := 256#32
  let v1142 : BitVec 32 := Scalar.muli v1141 c256_i32_685
  let c72_i32 : BitVec 32 := 72#32
  let v1143 : BitVec 32 := Scalar.addi v1142 c72_i32
  let v1145 : Index := Scalar.indexCast v1143
  ![0, 0, v1145.toNat]
def k0_mult1171 (v1146 : BitVec 32) : BitVec 32 :=
  v1146

def k0_mult1172 (i : grid0.Coords) : BitVec 32 :=
  let arg1 : BitVec 32 := BitVec.ofNat 32 (i 1).val
  let c2_i32_683 : BitVec 32 := 2#32
  let v1140 : BitVec 32 := Scalar.muli arg1 c2_i32_683
  let c0_i32_684 : BitVec 32 := 0#32
  let v1141 : BitVec 32 := Scalar.addi v1140 c0_i32_684
  let c256_i32_685 : BitVec 32 := 256#32
  let v1142 : BitVec 32 := Scalar.muli v1141 c256_i32_685
  let c72_i32 : BitVec 32 := 72#32
  let v1143 : BitVec 32 := Scalar.addi v1142 c72_i32
  let c8_i32_689 : BitVec 32 := 8#32
  let v1148 : BitVec 32 := Scalar.muli v1143 c8_i32_689
  v1148
def k0_off2359 (i : grid0.Coords) : Fin 1 → Nat :=
  let c1_i32_686 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1144 : BitVec 32 := Scalar.subi c1_i32_686 v9
  ![v1144.toNat]
def k0_off2360 (i : grid0.Coords) : Fin 3 → Nat :=
  let c1_i32_686 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1144 : BitVec 32 := Scalar.subi c1_i32_686 v9
  let arg1 : BitVec 32 := BitVec.ofNat 32 (i 1).val
  let c2_i32_683 : BitVec 32 := 2#32
  let v1140 : BitVec 32 := Scalar.muli arg1 c2_i32_683
  let c0_i32_684 : BitVec 32 := 0#32
  let v1141 : BitVec 32 := Scalar.addi v1140 c0_i32_684
  let c256_i32_685 : BitVec 32 := 256#32
  let v1142 : BitVec 32 := Scalar.muli v1141 c256_i32_685
  let c72_i32 : BitVec 32 := 72#32
  let v1143 : BitVec 32 := Scalar.addi v1142 c72_i32
  let c8_i32_689 : BitVec 32 := 8#32
  let v1148 : BitVec 32 := Scalar.muli v1143 c8_i32_689
  let v1149 : BitVec 32 := v1148
  let c0_i32_690 : BitVec 32 := 0#32
  ![v1144.toNat, v1149.toNat, 0]
def k0_off2361 (v1146 : BitVec 32) : Fin 2 → Nat :=
  let v1147 : BitVec 32 := v1146
  let c0_i32_691 : BitVec 32 := 0#32
  ![v1147.toNat, 0]

def k0_chk586 (i : grid0.Coords) (v1146 : BitVec 32) : Prop :=
  (∀ (k0_h3 : k0_cond3 i = 1#1), 8 ∣ (k0_mult1171 v1146).toNat) ∧
  (∀ (k0_h3 : k0_cond3 i = 1#1), ∀ a, (k0_off2361 v1146) a + S8x128.size a ≤ S131072x128.size a)
theorem k0_mult1171_dvd : ∀ (i : grid0.Coords) (v1146 : BitVec 32) (k0_hw586 : k0_chk586 i v1146), ∀ (k0_h3 : k0_cond3 i = 1#1), 8 ∣ (k0_mult1171 v1146).toNat := fun i v1146 k0_hw586 k0_h3 => k0_hw586.1 k0_h3
theorem k0_off2361_inb : ∀ (i : grid0.Coords) (v1146 : BitVec 32) (k0_hw586 : k0_chk586 i v1146), ∀ (k0_h3 : k0_cond3 i = 1#1), ∀ a, (k0_off2361 v1146) a + S8x128.size a ≤ S131072x128.size a := fun i v1146 k0_hw586 k0_h3 => k0_hw586.2 k0_h3

def k0_off2362 (i : grid0.Coords) : Fin 3 → Nat :=
  let c0_696 : Index := 0#32
  let c0_697 : Index := 0#32
  let arg1 : BitVec 32 := BitVec.ofNat 32 (i 1).val
  let c2_i32_692 : BitVec 32 := 2#32
  let v1155 : BitVec 32 := Scalar.muli arg1 c2_i32_692
  let c0_i32_693 : BitVec 32 := 0#32
  let v1156 : BitVec 32 := Scalar.addi v1155 c0_i32_693
  let c256_i32_694 : BitVec 32 := 256#32
  let v1157 : BitVec 32 := Scalar.muli v1156 c256_i32_694
  let c73_i32 : BitVec 32 := 73#32
  let v1158 : BitVec 32 := Scalar.addi v1157 c73_i32
  let v1160 : Index := Scalar.indexCast v1158
  ![0, 0, v1160.toNat]
def k0_mult1173 (v1161 : BitVec 32) : BitVec 32 :=
  v1161

def k0_mult1174 (i : grid0.Coords) : BitVec 32 :=
  let arg1 : BitVec 32 := BitVec.ofNat 32 (i 1).val
  let c2_i32_692 : BitVec 32 := 2#32
  let v1155 : BitVec 32 := Scalar.muli arg1 c2_i32_692
  let c0_i32_693 : BitVec 32 := 0#32
  let v1156 : BitVec 32 := Scalar.addi v1155 c0_i32_693
  let c256_i32_694 : BitVec 32 := 256#32
  let v1157 : BitVec 32 := Scalar.muli v1156 c256_i32_694
  let c73_i32 : BitVec 32 := 73#32
  let v1158 : BitVec 32 := Scalar.addi v1157 c73_i32
  let c8_i32_698 : BitVec 32 := 8#32
  let v1163 : BitVec 32 := Scalar.muli v1158 c8_i32_698
  v1163
def k0_off2363 (i : grid0.Coords) : Fin 1 → Nat :=
  let c1_i32_695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1159 : BitVec 32 := Scalar.subi c1_i32_695 v9
  ![v1159.toNat]
def k0_off2364 (i : grid0.Coords) : Fin 3 → Nat :=
  let c1_i32_695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1159 : BitVec 32 := Scalar.subi c1_i32_695 v9
  let arg1 : BitVec 32 := BitVec.ofNat 32 (i 1).val
  let c2_i32_692 : BitVec 32 := 2#32
  let v1155 : BitVec 32 := Scalar.muli arg1 c2_i32_692
  let c0_i32_693 : BitVec 32 := 0#32
  let v1156 : BitVec 32 := Scalar.addi v1155 c0_i32_693
  let c256_i32_694 : BitVec 32 := 256#32
  let v1157 : BitVec 32 := Scalar.muli v1156 c256_i32_694
  let c73_i32 : BitVec 32 := 73#32
  let v1158 : BitVec 32 := Scalar.addi v1157 c73_i32
  let c8_i32_698 : BitVec 32 := 8#32
  let v1163 : BitVec 32 := Scalar.muli v1158 c8_i32_698
  let v1164 : BitVec 32 := v1163
  let c0_i32_699 : BitVec 32 := 0#32
  ![v1159.toNat, v1164.toNat, 0]
def k0_off2365 (v1161 : BitVec 32) : Fin 2 → Nat :=
  let v1162 : BitVec 32 := v1161
  let c0_i32_700 : BitVec 32 := 0#32
  ![v1162.toNat, 0]

def k0_chk587 (i : grid0.Coords) (v1161 : BitVec 32) : Prop :=
  (∀ (k0_h3 : k0_cond3 i = 1#1), 8 ∣ (k0_mult1173 v1161).toNat) ∧
  (∀ (k0_h3 : k0_cond3 i = 1#1), ∀ a, (k0_off2365 v1161) a + S8x128.size a ≤ S131072x128.size a)
theorem k0_mult1173_dvd : ∀ (i : grid0.Coords) (v1161 : BitVec 32) (k0_hw587 : k0_chk587 i v1161), ∀ (k0_h3 : k0_cond3 i = 1#1), 8 ∣ (k0_mult1173 v1161).toNat := fun i v1161 k0_hw587 k0_h3 => k0_hw587.1 k0_h3
theorem k0_off2365_inb : ∀ (i : grid0.Coords) (v1161 : BitVec 32) (k0_hw587 : k0_chk587 i v1161), ∀ (k0_h3 : k0_cond3 i = 1#1), ∀ a, (k0_off2365 v1161) a + S8x128.size a ≤ S131072x128.size a := fun i v1161 k0_hw587 k0_h3 => k0_hw587.2 k0_h3

def k0_off2366 (i : grid0.Coords) : Fin 3 → Nat :=
  let c0_705 : Index := 0#32
  let c0_706 : Index := 0#32
  let arg1 : BitVec 32 := BitVec.ofNat 32 (i 1).val
  let c2_i32_701 : BitVec 32 := 2#32
  let v1170 : BitVec 32 := Scalar.muli arg1 c2_i32_701
  let c0_i32_702 : BitVec 32 := 0#32
  let v1171 : BitVec 32 := Scalar.addi v1170 c0_i32_702
  let c256_i32_703 : BitVec 32 := 256#32
  let v1172 : BitVec 32 := Scalar.muli v1171 c256_i32_703
  let c74_i32 : BitVec 32 := 74#32
  let v1173 : BitVec 32 := Scalar.addi v1172 c74_i32
  let v1175 : Index := Scalar.indexCast v1173
  ![0, 0, v1175.toNat]
def k0_mult1175 (v1176 : BitVec 32) : BitVec 32 :=
  v1176

def k0_mult1176 (i : grid0.Coords) : BitVec 32 :=
  let arg1 : BitVec 32 := BitVec.ofNat 32 (i 1).val
  let c2_i32_701 : BitVec 32 := 2#32
  let v1170 : BitVec 32 := Scalar.muli arg1 c2_i32_701
  let c0_i32_702 : BitVec 32 := 0#32
  let v1171 : BitVec 32 := Scalar.addi v1170 c0_i32_702
  let c256_i32_703 : BitVec 32 := 256#32
  let v1172 : BitVec 32 := Scalar.muli v1171 c256_i32_703
  let c74_i32 : BitVec 32 := 74#32
  let v1173 : BitVec 32 := Scalar.addi v1172 c74_i32
  let c8_i32_707 : BitVec 32 := 8#32
  let v1178 : BitVec 32 := Scalar.muli v1173 c8_i32_707
  v1178
def k0_off2367 (i : grid0.Coords) : Fin 1 → Nat :=
  let c1_i32_704 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1174 : BitVec 32 := Scalar.subi c1_i32_704 v9
  ![v1174.toNat]
def k0_off2368 (i : grid0.Coords) : Fin 3 → Nat :=
  let c1_i32_704 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1174 : BitVec 32 := Scalar.subi c1_i32_704 v9
  let arg1 : BitVec 32 := BitVec.ofNat 32 (i 1).val
  let c2_i32_701 : BitVec 32 := 2#32
  let v1170 : BitVec 32 := Scalar.muli arg1 c2_i32_701
  let c0_i32_702 : BitVec 32 := 0#32
  let v1171 : BitVec 32 := Scalar.addi v1170 c0_i32_702
  let c256_i32_703 : BitVec 32 := 256#32
  let v1172 : BitVec 32 := Scalar.muli v1171 c256_i32_703
  let c74_i32 : BitVec 32 := 74#32
  let v1173 : BitVec 32 := Scalar.addi v1172 c74_i32
  let c8_i32_707 : BitVec 32 := 8#32
  let v1178 : BitVec 32 := Scalar.muli v1173 c8_i32_707
  let v1179 : BitVec 32 := v1178
  let c0_i32_708 : BitVec 32 := 0#32
  ![v1174.toNat, v1179.toNat, 0]
def k0_off2369 (v1176 : BitVec 32) : Fin 2 → Nat :=
  let v1177 : BitVec 32 := v1176
  let c0_i32_709 : BitVec 32 := 0#32
  ![v1177.toNat, 0]

def k0_chk588 (i : grid0.Coords) (v1176 : BitVec 32) : Prop :=
  (∀ (k0_h3 : k0_cond3 i = 1#1), 8 ∣ (k0_mult1175 v1176).toNat) ∧
  (∀ (k0_h3 : k0_cond3 i = 1#1), ∀ a, (k0_off2369 v1176) a + S8x128.size a ≤ S131072x128.size a)
theorem k0_mult1175_dvd : ∀ (i : grid0.Coords) (v1176 : BitVec 32) (k0_hw588 : k0_chk588 i v1176), ∀ (k0_h3 : k0_cond3 i = 1#1), 8 ∣ (k0_mult1175 v1176).toNat := fun i v1176 k0_hw588 k0_h3 => k0_hw588.1 k0_h3
theorem k0_off2369_inb : ∀ (i : grid0.Coords) (v1176 : BitVec 32) (k0_hw588 : k0_chk588 i v1176), ∀ (k0_h3 : k0_cond3 i = 1#1), ∀ a, (k0_off2369 v1176) a + S8x128.size a ≤ S131072x128.size a := fun i v1176 k0_hw588 k0_h3 => k0_hw588.2 k0_h3

def k0_off2370 (i : grid0.Coords) : Fin 3 → Nat :=
  let c0_714 : Index := 0#32
  let c0_715 : Index := 0#32
  let arg1 : BitVec 32 := BitVec.ofNat 32 (i 1).val
  let c2_i32_710 : BitVec 32 := 2#32
  let v1185 : BitVec 32 := Scalar.muli arg1 c2_i32_710
  let c0_i32_711 : BitVec 32 := 0#32
  let v1186 : BitVec 32 := Scalar.addi v1185 c0_i32_711
  let c256_i32_712 : BitVec 32 := 256#32
  let v1187 : BitVec 32 := Scalar.muli v1186 c256_i32_712
  let c75_i32 : BitVec 32 := 75#32
  let v1188 : BitVec 32 := Scalar.addi v1187 c75_i32
  let v1190 : Index := Scalar.indexCast v1188
  ![0, 0, v1190.toNat]
def k0_mult1177 (v1191 : BitVec 32) : BitVec 32 :=
  v1191

def k0_mult1178 (i : grid0.Coords) : BitVec 32 :=
  let arg1 : BitVec 32 := BitVec.ofNat 32 (i 1).val
  let c2_i32_710 : BitVec 32 := 2#32
  let v1185 : BitVec 32 := Scalar.muli arg1 c2_i32_710
  let c0_i32_711 : BitVec 32 := 0#32
  let v1186 : BitVec 32 := Scalar.addi v1185 c0_i32_711
  let c256_i32_712 : BitVec 32 := 256#32
  let v1187 : BitVec 32 := Scalar.muli v1186 c256_i32_712
  let c75_i32 : BitVec 32 := 75#32
  let v1188 : BitVec 32 := Scalar.addi v1187 c75_i32
  let c8_i32_716 : BitVec 32 := 8#32
  let v1193 : BitVec 32 := Scalar.muli v1188 c8_i32_716
  v1193
def k0_off2371 (i : grid0.Coords) : Fin 1 → Nat :=
  let c1_i32_713 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1189 : BitVec 32 := Scalar.subi c1_i32_713 v9
  ![v1189.toNat]
def k0_off2372 (i : grid0.Coords) : Fin 3 → Nat :=
  let c1_i32_713 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1189 : BitVec 32 := Scalar.subi c1_i32_713 v9
  let arg1 : BitVec 32 := BitVec.ofNat 32 (i 1).val
  let c2_i32_710 : BitVec 32 := 2#32
  let v1185 : BitVec 32 := Scalar.muli arg1 c2_i32_710
  let c0_i32_711 : BitVec 32 := 0#32
  let v1186 : BitVec 32 := Scalar.addi v1185 c0_i32_711
  let c256_i32_712 : BitVec 32 := 256#32
  let v1187 : BitVec 32 := Scalar.muli v1186 c256_i32_712
  let c75_i32 : BitVec 32 := 75#32
  let v1188 : BitVec 32 := Scalar.addi v1187 c75_i32
  let c8_i32_716 : BitVec 32 := 8#32
  let v1193 : BitVec 32 := Scalar.muli v1188 c8_i32_716
  let v1194 : BitVec 32 := v1193
  let c0_i32_717 : BitVec 32 := 0#32
  ![v1189.toNat, v1194.toNat, 0]
def k0_off2373 (v1191 : BitVec 32) : Fin 2 → Nat :=
  let v1192 : BitVec 32 := v1191
  let c0_i32_718 : BitVec 32 := 0#32
  ![v1192.toNat, 0]

def k0_chk589 (i : grid0.Coords) (v1191 : BitVec 32) : Prop :=
  (∀ (k0_h3 : k0_cond3 i = 1#1), 8 ∣ (k0_mult1177 v1191).toNat) ∧
  (∀ (k0_h3 : k0_cond3 i = 1#1), ∀ a, (k0_off2373 v1191) a + S8x128.size a ≤ S131072x128.size a)
theorem k0_mult1177_dvd : ∀ (i : grid0.Coords) (v1191 : BitVec 32) (k0_hw589 : k0_chk589 i v1191), ∀ (k0_h3 : k0_cond3 i = 1#1), 8 ∣ (k0_mult1177 v1191).toNat := fun i v1191 k0_hw589 k0_h3 => k0_hw589.1 k0_h3
theorem k0_off2373_inb : ∀ (i : grid0.Coords) (v1191 : BitVec 32) (k0_hw589 : k0_chk589 i v1191), ∀ (k0_h3 : k0_cond3 i = 1#1), ∀ a, (k0_off2373 v1191) a + S8x128.size a ≤ S131072x128.size a := fun i v1191 k0_hw589 k0_h3 => k0_hw589.2 k0_h3

def k0_off2374 (i : grid0.Coords) : Fin 3 → Nat :=
  let c0_723 : Index := 0#32
  let c0_724 : Index := 0#32
  let arg1 : BitVec 32 := BitVec.ofNat 32 (i 1).val
  let c2_i32_719 : BitVec 32 := 2#32
  let v1200 : BitVec 32 := Scalar.muli arg1 c2_i32_719
  let c0_i32_720 : BitVec 32 := 0#32
  let v1201 : BitVec 32 := Scalar.addi v1200 c0_i32_720
  let c256_i32_721 : BitVec 32 := 256#32
  let v1202 : BitVec 32 := Scalar.muli v1201 c256_i32_721
  let c76_i32 : BitVec 32 := 76#32
  let v1203 : BitVec 32 := Scalar.addi v1202 c76_i32
  let v1205 : Index := Scalar.indexCast v1203
  ![0, 0, v1205.toNat]
def k0_mult1179 (v1206 : BitVec 32) : BitVec 32 :=
  v1206

def k0_mult1180 (i : grid0.Coords) : BitVec 32 :=
  let arg1 : BitVec 32 := BitVec.ofNat 32 (i 1).val
  let c2_i32_719 : BitVec 32 := 2#32
  let v1200 : BitVec 32 := Scalar.muli arg1 c2_i32_719
  let c0_i32_720 : BitVec 32 := 0#32
  let v1201 : BitVec 32 := Scalar.addi v1200 c0_i32_720
  let c256_i32_721 : BitVec 32 := 256#32
  let v1202 : BitVec 32 := Scalar.muli v1201 c256_i32_721
  let c76_i32 : BitVec 32 := 76#32
  let v1203 : BitVec 32 := Scalar.addi v1202 c76_i32
  let c8_i32_725 : BitVec 32 := 8#32
  let v1208 : BitVec 32 := Scalar.muli v1203 c8_i32_725
  v1208
def k0_off2375 (i : grid0.Coords) : Fin 1 → Nat :=
  let c1_i32_722 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1204 : BitVec 32 := Scalar.subi c1_i32_722 v9
  ![v1204.toNat]
def k0_off2376 (i : grid0.Coords) : Fin 3 → Nat :=
  let c1_i32_722 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1204 : BitVec 32 := Scalar.subi c1_i32_722 v9
  let arg1 : BitVec 32 := BitVec.ofNat 32 (i 1).val
  let c2_i32_719 : BitVec 32 := 2#32
  let v1200 : BitVec 32 := Scalar.muli arg1 c2_i32_719
  let c0_i32_720 : BitVec 32 := 0#32
  let v1201 : BitVec 32 := Scalar.addi v1200 c0_i32_720
  let c256_i32_721 : BitVec 32 := 256#32
  let v1202 : BitVec 32 := Scalar.muli v1201 c256_i32_721
  let c76_i32 : BitVec 32 := 76#32
  let v1203 : BitVec 32 := Scalar.addi v1202 c76_i32
  let c8_i32_725 : BitVec 32 := 8#32
  let v1208 : BitVec 32 := Scalar.muli v1203 c8_i32_725
  let v1209 : BitVec 32 := v1208
  let c0_i32_726 : BitVec 32 := 0#32
  ![v1204.toNat, v1209.toNat, 0]
def k0_off2377 (v1206 : BitVec 32) : Fin 2 → Nat :=
  let v1207 : BitVec 32 := v1206
  let c0_i32_727 : BitVec 32 := 0#32
  ![v1207.toNat, 0]

def k0_chk590 (i : grid0.Coords) (v1206 : BitVec 32) : Prop :=
  (∀ (k0_h3 : k0_cond3 i = 1#1), 8 ∣ (k0_mult1179 v1206).toNat) ∧
  (∀ (k0_h3 : k0_cond3 i = 1#1), ∀ a, (k0_off2377 v1206) a + S8x128.size a ≤ S131072x128.size a)
theorem k0_mult1179_dvd : ∀ (i : grid0.Coords) (v1206 : BitVec 32) (k0_hw590 : k0_chk590 i v1206), ∀ (k0_h3 : k0_cond3 i = 1#1), 8 ∣ (k0_mult1179 v1206).toNat := fun i v1206 k0_hw590 k0_h3 => k0_hw590.1 k0_h3
theorem k0_off2377_inb : ∀ (i : grid0.Coords) (v1206 : BitVec 32) (k0_hw590 : k0_chk590 i v1206), ∀ (k0_h3 : k0_cond3 i = 1#1), ∀ a, (k0_off2377 v1206) a + S8x128.size a ≤ S131072x128.size a := fun i v1206 k0_hw590 k0_h3 => k0_hw590.2 k0_h3

def k0_off2378 (i : grid0.Coords) : Fin 3 → Nat :=
  let c0_732 : Index := 0#32
  let c0_733 : Index := 0#32
  let arg1 : BitVec 32 := BitVec.ofNat 32 (i 1).val
  let c2_i32_728 : BitVec 32 := 2#32
  let v1215 : BitVec 32 := Scalar.muli arg1 c2_i32_728
  let c0_i32_729 : BitVec 32 := 0#32
  let v1216 : BitVec 32 := Scalar.addi v1215 c0_i32_729
  let c256_i32_730 : BitVec 32 := 256#32
  let v1217 : BitVec 32 := Scalar.muli v1216 c256_i32_730
  let c77_i32 : BitVec 32 := 77#32
  let v1218 : BitVec 32 := Scalar.addi v1217 c77_i32
  let v1220 : Index := Scalar.indexCast v1218
  ![0, 0, v1220.toNat]
def k0_mult1181 (v1221 : BitVec 32) : BitVec 32 :=
  v1221

def k0_mult1182 (i : grid0.Coords) : BitVec 32 :=
  let arg1 : BitVec 32 := BitVec.ofNat 32 (i 1).val
  let c2_i32_728 : BitVec 32 := 2#32
  let v1215 : BitVec 32 := Scalar.muli arg1 c2_i32_728
  let c0_i32_729 : BitVec 32 := 0#32
  let v1216 : BitVec 32 := Scalar.addi v1215 c0_i32_729
  let c256_i32_730 : BitVec 32 := 256#32
  let v1217 : BitVec 32 := Scalar.muli v1216 c256_i32_730
  let c77_i32 : BitVec 32 := 77#32
  let v1218 : BitVec 32 := Scalar.addi v1217 c77_i32
  let c8_i32_734 : BitVec 32 := 8#32
  let v1223 : BitVec 32 := Scalar.muli v1218 c8_i32_734
  v1223
def k0_off2379 (i : grid0.Coords) : Fin 1 → Nat :=
  let c1_i32_731 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1219 : BitVec 32 := Scalar.subi c1_i32_731 v9
  ![v1219.toNat]
def k0_off2380 (i : grid0.Coords) : Fin 3 → Nat :=
  let c1_i32_731 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1219 : BitVec 32 := Scalar.subi c1_i32_731 v9
  let arg1 : BitVec 32 := BitVec.ofNat 32 (i 1).val
  let c2_i32_728 : BitVec 32 := 2#32
  let v1215 : BitVec 32 := Scalar.muli arg1 c2_i32_728
  let c0_i32_729 : BitVec 32 := 0#32
  let v1216 : BitVec 32 := Scalar.addi v1215 c0_i32_729
  let c256_i32_730 : BitVec 32 := 256#32
  let v1217 : BitVec 32 := Scalar.muli v1216 c256_i32_730
  let c77_i32 : BitVec 32 := 77#32
  let v1218 : BitVec 32 := Scalar.addi v1217 c77_i32
  let c8_i32_734 : BitVec 32 := 8#32
  let v1223 : BitVec 32 := Scalar.muli v1218 c8_i32_734
  let v1224 : BitVec 32 := v1223
  let c0_i32_735 : BitVec 32 := 0#32
  ![v1219.toNat, v1224.toNat, 0]
def k0_off2381 (v1221 : BitVec 32) : Fin 2 → Nat :=
  let v1222 : BitVec 32 := v1221
  let c0_i32_736 : BitVec 32 := 0#32
  ![v1222.toNat, 0]

def k0_chk591 (i : grid0.Coords) (v1221 : BitVec 32) : Prop :=
  (∀ (k0_h3 : k0_cond3 i = 1#1), 8 ∣ (k0_mult1181 v1221).toNat) ∧
  (∀ (k0_h3 : k0_cond3 i = 1#1), ∀ a, (k0_off2381 v1221) a + S8x128.size a ≤ S131072x128.size a)
theorem k0_mult1181_dvd : ∀ (i : grid0.Coords) (v1221 : BitVec 32) (k0_hw591 : k0_chk591 i v1221), ∀ (k0_h3 : k0_cond3 i = 1#1), 8 ∣ (k0_mult1181 v1221).toNat := fun i v1221 k0_hw591 k0_h3 => k0_hw591.1 k0_h3
theorem k0_off2381_inb : ∀ (i : grid0.Coords) (v1221 : BitVec 32) (k0_hw591 : k0_chk591 i v1221), ∀ (k0_h3 : k0_cond3 i = 1#1), ∀ a, (k0_off2381 v1221) a + S8x128.size a ≤ S131072x128.size a := fun i v1221 k0_hw591 k0_h3 => k0_hw591.2 k0_h3

def k0_off2382 (i : grid0.Coords) : Fin 3 → Nat :=
  let c0_741 : Index := 0#32
  let c0_742 : Index := 0#32
  let arg1 : BitVec 32 := BitVec.ofNat 32 (i 1).val
  let c2_i32_737 : BitVec 32 := 2#32
  let v1230 : BitVec 32 := Scalar.muli arg1 c2_i32_737
  let c0_i32_738 : BitVec 32 := 0#32
  let v1231 : BitVec 32 := Scalar.addi v1230 c0_i32_738
  let c256_i32_739 : BitVec 32 := 256#32
  let v1232 : BitVec 32 := Scalar.muli v1231 c256_i32_739
  let c78_i32 : BitVec 32 := 78#32
  let v1233 : BitVec 32 := Scalar.addi v1232 c78_i32
  let v1235 : Index := Scalar.indexCast v1233
  ![0, 0, v1235.toNat]
def k0_mult1183 (v1236 : BitVec 32) : BitVec 32 :=
  v1236

def k0_mult1184 (i : grid0.Coords) : BitVec 32 :=
  let arg1 : BitVec 32 := BitVec.ofNat 32 (i 1).val
  let c2_i32_737 : BitVec 32 := 2#32
  let v1230 : BitVec 32 := Scalar.muli arg1 c2_i32_737
  let c0_i32_738 : BitVec 32 := 0#32
  let v1231 : BitVec 32 := Scalar.addi v1230 c0_i32_738
  let c256_i32_739 : BitVec 32 := 256#32
  let v1232 : BitVec 32 := Scalar.muli v1231 c256_i32_739
  let c78_i32 : BitVec 32 := 78#32
  let v1233 : BitVec 32 := Scalar.addi v1232 c78_i32
  let c8_i32_743 : BitVec 32 := 8#32
  let v1238 : BitVec 32 := Scalar.muli v1233 c8_i32_743
  v1238
def k0_off2383 (i : grid0.Coords) : Fin 1 → Nat :=
  let c1_i32_740 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1234 : BitVec 32 := Scalar.subi c1_i32_740 v9
  ![v1234.toNat]
def k0_off2384 (i : grid0.Coords) : Fin 3 → Nat :=
  let c1_i32_740 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1234 : BitVec 32 := Scalar.subi c1_i32_740 v9
  let arg1 : BitVec 32 := BitVec.ofNat 32 (i 1).val
  let c2_i32_737 : BitVec 32 := 2#32
  let v1230 : BitVec 32 := Scalar.muli arg1 c2_i32_737
  let c0_i32_738 : BitVec 32 := 0#32
  let v1231 : BitVec 32 := Scalar.addi v1230 c0_i32_738
  let c256_i32_739 : BitVec 32 := 256#32
  let v1232 : BitVec 32 := Scalar.muli v1231 c256_i32_739
  let c78_i32 : BitVec 32 := 78#32
  let v1233 : BitVec 32 := Scalar.addi v1232 c78_i32
  let c8_i32_743 : BitVec 32 := 8#32
  let v1238 : BitVec 32 := Scalar.muli v1233 c8_i32_743
  let v1239 : BitVec 32 := v1238
  let c0_i32_744 : BitVec 32 := 0#32
  ![v1234.toNat, v1239.toNat, 0]
def k0_off2385 (v1236 : BitVec 32) : Fin 2 → Nat :=
  let v1237 : BitVec 32 := v1236
  let c0_i32_745 : BitVec 32 := 0#32
  ![v1237.toNat, 0]

def k0_chk592 (i : grid0.Coords) (v1236 : BitVec 32) : Prop :=
  (∀ (k0_h3 : k0_cond3 i = 1#1), 8 ∣ (k0_mult1183 v1236).toNat) ∧
  (∀ (k0_h3 : k0_cond3 i = 1#1), ∀ a, (k0_off2385 v1236) a + S8x128.size a ≤ S131072x128.size a)
theorem k0_mult1183_dvd : ∀ (i : grid0.Coords) (v1236 : BitVec 32) (k0_hw592 : k0_chk592 i v1236), ∀ (k0_h3 : k0_cond3 i = 1#1), 8 ∣ (k0_mult1183 v1236).toNat := fun i v1236 k0_hw592 k0_h3 => k0_hw592.1 k0_h3
theorem k0_off2385_inb : ∀ (i : grid0.Coords) (v1236 : BitVec 32) (k0_hw592 : k0_chk592 i v1236), ∀ (k0_h3 : k0_cond3 i = 1#1), ∀ a, (k0_off2385 v1236) a + S8x128.size a ≤ S131072x128.size a := fun i v1236 k0_hw592 k0_h3 => k0_hw592.2 k0_h3

def k0_off2386 (i : grid0.Coords) : Fin 3 → Nat :=
  let c0_750 : Index := 0#32
  let c0_751 : Index := 0#32
  let arg1 : BitVec 32 := BitVec.ofNat 32 (i 1).val
  let c2_i32_746 : BitVec 32 := 2#32
  let v1245 : BitVec 32 := Scalar.muli arg1 c2_i32_746
  let c0_i32_747 : BitVec 32 := 0#32
  let v1246 : BitVec 32 := Scalar.addi v1245 c0_i32_747
  let c256_i32_748 : BitVec 32 := 256#32
  let v1247 : BitVec 32 := Scalar.muli v1246 c256_i32_748
  let c79_i32 : BitVec 32 := 79#32
  let v1248 : BitVec 32 := Scalar.addi v1247 c79_i32
  let v1250 : Index := Scalar.indexCast v1248
  ![0, 0, v1250.toNat]
def k0_mult1185 (v1251 : BitVec 32) : BitVec 32 :=
  v1251

def k0_mult1186 (i : grid0.Coords) : BitVec 32 :=
  let arg1 : BitVec 32 := BitVec.ofNat 32 (i 1).val
  let c2_i32_746 : BitVec 32 := 2#32
  let v1245 : BitVec 32 := Scalar.muli arg1 c2_i32_746
  let c0_i32_747 : BitVec 32 := 0#32
  let v1246 : BitVec 32 := Scalar.addi v1245 c0_i32_747
  let c256_i32_748 : BitVec 32 := 256#32
  let v1247 : BitVec 32 := Scalar.muli v1246 c256_i32_748
  let c79_i32 : BitVec 32 := 79#32
  let v1248 : BitVec 32 := Scalar.addi v1247 c79_i32
  let c8_i32_752 : BitVec 32 := 8#32
  let v1253 : BitVec 32 := Scalar.muli v1248 c8_i32_752
  v1253
def k0_off2387 (i : grid0.Coords) : Fin 1 → Nat :=
  let c1_i32_749 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1249 : BitVec 32 := Scalar.subi c1_i32_749 v9
  ![v1249.toNat]
def k0_off2388 (i : grid0.Coords) : Fin 3 → Nat :=
  let c1_i32_749 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1249 : BitVec 32 := Scalar.subi c1_i32_749 v9
  let arg1 : BitVec 32 := BitVec.ofNat 32 (i 1).val
  let c2_i32_746 : BitVec 32 := 2#32
  let v1245 : BitVec 32 := Scalar.muli arg1 c2_i32_746
  let c0_i32_747 : BitVec 32 := 0#32
  let v1246 : BitVec 32 := Scalar.addi v1245 c0_i32_747
  let c256_i32_748 : BitVec 32 := 256#32
  let v1247 : BitVec 32 := Scalar.muli v1246 c256_i32_748
  let c79_i32 : BitVec 32 := 79#32
  let v1248 : BitVec 32 := Scalar.addi v1247 c79_i32
  let c8_i32_752 : BitVec 32 := 8#32
  let v1253 : BitVec 32 := Scalar.muli v1248 c8_i32_752
  let v1254 : BitVec 32 := v1253
  let c0_i32_753 : BitVec 32 := 0#32
  ![v1249.toNat, v1254.toNat, 0]
def k0_off2389 (v1251 : BitVec 32) : Fin 2 → Nat :=
  let v1252 : BitVec 32 := v1251
  let c0_i32_754 : BitVec 32 := 0#32
  ![v1252.toNat, 0]

def k0_chk593 (i : grid0.Coords) (v1251 : BitVec 32) : Prop :=
  (∀ (k0_h3 : k0_cond3 i = 1#1), 8 ∣ (k0_mult1185 v1251).toNat) ∧
  (∀ (k0_h3 : k0_cond3 i = 1#1), ∀ a, (k0_off2389 v1251) a + S8x128.size a ≤ S131072x128.size a)
theorem k0_mult1185_dvd : ∀ (i : grid0.Coords) (v1251 : BitVec 32) (k0_hw593 : k0_chk593 i v1251), ∀ (k0_h3 : k0_cond3 i = 1#1), 8 ∣ (k0_mult1185 v1251).toNat := fun i v1251 k0_hw593 k0_h3 => k0_hw593.1 k0_h3
theorem k0_off2389_inb : ∀ (i : grid0.Coords) (v1251 : BitVec 32) (k0_hw593 : k0_chk593 i v1251), ∀ (k0_h3 : k0_cond3 i = 1#1), ∀ a, (k0_off2389 v1251) a + S8x128.size a ≤ S131072x128.size a := fun i v1251 k0_hw593 k0_h3 => k0_hw593.2 k0_h3

def k0_off2390 (i : grid0.Coords) : Fin 3 → Nat :=
  let c0_759 : Index := 0#32
  let c0_760 : Index := 0#32
  let arg1 : BitVec 32 := BitVec.ofNat 32 (i 1).val
  let c2_i32_755 : BitVec 32 := 2#32
  let v1260 : BitVec 32 := Scalar.muli arg1 c2_i32_755
  let c0_i32_756 : BitVec 32 := 0#32
  let v1261 : BitVec 32 := Scalar.addi v1260 c0_i32_756
  let c256_i32_757 : BitVec 32 := 256#32
  let v1262 : BitVec 32 := Scalar.muli v1261 c256_i32_757
  let c80_i32 : BitVec 32 := 80#32
  let v1263 : BitVec 32 := Scalar.addi v1262 c80_i32
  let v1265 : Index := Scalar.indexCast v1263
  ![0, 0, v1265.toNat]
def k0_mult1187 (v1266 : BitVec 32) : BitVec 32 :=
  v1266

def k0_mult1188 (i : grid0.Coords) : BitVec 32 :=
  let arg1 : BitVec 32 := BitVec.ofNat 32 (i 1).val
  let c2_i32_755 : BitVec 32 := 2#32
  let v1260 : BitVec 32 := Scalar.muli arg1 c2_i32_755
  let c0_i32_756 : BitVec 32 := 0#32
  let v1261 : BitVec 32 := Scalar.addi v1260 c0_i32_756
  let c256_i32_757 : BitVec 32 := 256#32
  let v1262 : BitVec 32 := Scalar.muli v1261 c256_i32_757
  let c80_i32 : BitVec 32 := 80#32
  let v1263 : BitVec 32 := Scalar.addi v1262 c80_i32
  let c8_i32_761 : BitVec 32 := 8#32
  let v1268 : BitVec 32 := Scalar.muli v1263 c8_i32_761
  v1268
def k0_off2391 (i : grid0.Coords) : Fin 1 → Nat :=
  let c1_i32_758 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1264 : BitVec 32 := Scalar.subi c1_i32_758 v9
  ![v1264.toNat]
def k0_off2392 (i : grid0.Coords) : Fin 3 → Nat :=
  let c1_i32_758 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1264 : BitVec 32 := Scalar.subi c1_i32_758 v9
  let arg1 : BitVec 32 := BitVec.ofNat 32 (i 1).val
  let c2_i32_755 : BitVec 32 := 2#32
  let v1260 : BitVec 32 := Scalar.muli arg1 c2_i32_755
  let c0_i32_756 : BitVec 32 := 0#32
  let v1261 : BitVec 32 := Scalar.addi v1260 c0_i32_756
  let c256_i32_757 : BitVec 32 := 256#32
  let v1262 : BitVec 32 := Scalar.muli v1261 c256_i32_757
  let c80_i32 : BitVec 32 := 80#32
  let v1263 : BitVec 32 := Scalar.addi v1262 c80_i32
  let c8_i32_761 : BitVec 32 := 8#32
  let v1268 : BitVec 32 := Scalar.muli v1263 c8_i32_761
  let v1269 : BitVec 32 := v1268
  let c0_i32_762 : BitVec 32 := 0#32
  ![v1264.toNat, v1269.toNat, 0]
def k0_off2393 (v1266 : BitVec 32) : Fin 2 → Nat :=
  let v1267 : BitVec 32 := v1266
  let c0_i32_763 : BitVec 32 := 0#32
  ![v1267.toNat, 0]

def k0_chk594 (i : grid0.Coords) (v1266 : BitVec 32) : Prop :=
  (∀ (k0_h3 : k0_cond3 i = 1#1), 8 ∣ (k0_mult1187 v1266).toNat) ∧
  (∀ (k0_h3 : k0_cond3 i = 1#1), ∀ a, (k0_off2393 v1266) a + S8x128.size a ≤ S131072x128.size a)
theorem k0_mult1187_dvd : ∀ (i : grid0.Coords) (v1266 : BitVec 32) (k0_hw594 : k0_chk594 i v1266), ∀ (k0_h3 : k0_cond3 i = 1#1), 8 ∣ (k0_mult1187 v1266).toNat := fun i v1266 k0_hw594 k0_h3 => k0_hw594.1 k0_h3
theorem k0_off2393_inb : ∀ (i : grid0.Coords) (v1266 : BitVec 32) (k0_hw594 : k0_chk594 i v1266), ∀ (k0_h3 : k0_cond3 i = 1#1), ∀ a, (k0_off2393 v1266) a + S8x128.size a ≤ S131072x128.size a := fun i v1266 k0_hw594 k0_h3 => k0_hw594.2 k0_h3

def k0_off2394 (i : grid0.Coords) : Fin 3 → Nat :=
  let c0_768 : Index := 0#32
  let c0_769 : Index := 0#32
  let arg1 : BitVec 32 := BitVec.ofNat 32 (i 1).val
  let c2_i32_764 : BitVec 32 := 2#32
  let v1275 : BitVec 32 := Scalar.muli arg1 c2_i32_764
  let c0_i32_765 : BitVec 32 := 0#32
  let v1276 : BitVec 32 := Scalar.addi v1275 c0_i32_765
  let c256_i32_766 : BitVec 32 := 256#32
  let v1277 : BitVec 32 := Scalar.muli v1276 c256_i32_766
  let c81_i32 : BitVec 32 := 81#32
  let v1278 : BitVec 32 := Scalar.addi v1277 c81_i32
  let v1280 : Index := Scalar.indexCast v1278
  ![0, 0, v1280.toNat]
def k0_mult1189 (v1281 : BitVec 32) : BitVec 32 :=
  v1281

def k0_mult1190 (i : grid0.Coords) : BitVec 32 :=
  let arg1 : BitVec 32 := BitVec.ofNat 32 (i 1).val
  let c2_i32_764 : BitVec 32 := 2#32
  let v1275 : BitVec 32 := Scalar.muli arg1 c2_i32_764
  let c0_i32_765 : BitVec 32 := 0#32
  let v1276 : BitVec 32 := Scalar.addi v1275 c0_i32_765
  let c256_i32_766 : BitVec 32 := 256#32
  let v1277 : BitVec 32 := Scalar.muli v1276 c256_i32_766
  let c81_i32 : BitVec 32 := 81#32
  let v1278 : BitVec 32 := Scalar.addi v1277 c81_i32
  let c8_i32_770 : BitVec 32 := 8#32
  let v1283 : BitVec 32 := Scalar.muli v1278 c8_i32_770
  v1283
def k0_off2395 (i : grid0.Coords) : Fin 1 → Nat :=
  let c1_i32_767 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1279 : BitVec 32 := Scalar.subi c1_i32_767 v9
  ![v1279.toNat]
def k0_off2396 (i : grid0.Coords) : Fin 3 → Nat :=
  let c1_i32_767 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1279 : BitVec 32 := Scalar.subi c1_i32_767 v9
  let arg1 : BitVec 32 := BitVec.ofNat 32 (i 1).val
  let c2_i32_764 : BitVec 32 := 2#32
  let v1275 : BitVec 32 := Scalar.muli arg1 c2_i32_764
  let c0_i32_765 : BitVec 32 := 0#32
  let v1276 : BitVec 32 := Scalar.addi v1275 c0_i32_765
  let c256_i32_766 : BitVec 32 := 256#32
  let v1277 : BitVec 32 := Scalar.muli v1276 c256_i32_766
  let c81_i32 : BitVec 32 := 81#32
  let v1278 : BitVec 32 := Scalar.addi v1277 c81_i32
  let c8_i32_770 : BitVec 32 := 8#32
  let v1283 : BitVec 32 := Scalar.muli v1278 c8_i32_770
  let v1284 : BitVec 32 := v1283
  let c0_i32_771 : BitVec 32 := 0#32
  ![v1279.toNat, v1284.toNat, 0]
def k0_off2397 (v1281 : BitVec 32) : Fin 2 → Nat :=
  let v1282 : BitVec 32 := v1281
  let c0_i32_772 : BitVec 32 := 0#32
  ![v1282.toNat, 0]

def k0_chk595 (i : grid0.Coords) (v1281 : BitVec 32) : Prop :=
  (∀ (k0_h3 : k0_cond3 i = 1#1), 8 ∣ (k0_mult1189 v1281).toNat) ∧
  (∀ (k0_h3 : k0_cond3 i = 1#1), ∀ a, (k0_off2397 v1281) a + S8x128.size a ≤ S131072x128.size a)
theorem k0_mult1189_dvd : ∀ (i : grid0.Coords) (v1281 : BitVec 32) (k0_hw595 : k0_chk595 i v1281), ∀ (k0_h3 : k0_cond3 i = 1#1), 8 ∣ (k0_mult1189 v1281).toNat := fun i v1281 k0_hw595 k0_h3 => k0_hw595.1 k0_h3
theorem k0_off2397_inb : ∀ (i : grid0.Coords) (v1281 : BitVec 32) (k0_hw595 : k0_chk595 i v1281), ∀ (k0_h3 : k0_cond3 i = 1#1), ∀ a, (k0_off2397 v1281) a + S8x128.size a ≤ S131072x128.size a := fun i v1281 k0_hw595 k0_h3 => k0_hw595.2 k0_h3

def k0_off2398 (i : grid0.Coords) : Fin 3 → Nat :=
  let c0_777 : Index := 0#32
  let c0_778 : Index := 0#32
  let arg1 : BitVec 32 := BitVec.ofNat 32 (i 1).val
  let c2_i32_773 : BitVec 32 := 2#32
  let v1290 : BitVec 32 := Scalar.muli arg1 c2_i32_773
  let c0_i32_774 : BitVec 32 := 0#32
  let v1291 : BitVec 32 := Scalar.addi v1290 c0_i32_774
  let c256_i32_775 : BitVec 32 := 256#32
  let v1292 : BitVec 32 := Scalar.muli v1291 c256_i32_775
  let c82_i32 : BitVec 32 := 82#32
  let v1293 : BitVec 32 := Scalar.addi v1292 c82_i32
  let v1295 : Index := Scalar.indexCast v1293
  ![0, 0, v1295.toNat]
def k0_mult1191 (v1296 : BitVec 32) : BitVec 32 :=
  v1296

def k0_mult1192 (i : grid0.Coords) : BitVec 32 :=
  let arg1 : BitVec 32 := BitVec.ofNat 32 (i 1).val
  let c2_i32_773 : BitVec 32 := 2#32
  let v1290 : BitVec 32 := Scalar.muli arg1 c2_i32_773
  let c0_i32_774 : BitVec 32 := 0#32
  let v1291 : BitVec 32 := Scalar.addi v1290 c0_i32_774
  let c256_i32_775 : BitVec 32 := 256#32
  let v1292 : BitVec 32 := Scalar.muli v1291 c256_i32_775
  let c82_i32 : BitVec 32 := 82#32
  let v1293 : BitVec 32 := Scalar.addi v1292 c82_i32
  let c8_i32_779 : BitVec 32 := 8#32
  let v1298 : BitVec 32 := Scalar.muli v1293 c8_i32_779
  v1298
def k0_off2399 (i : grid0.Coords) : Fin 1 → Nat :=
  let c1_i32_776 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1294 : BitVec 32 := Scalar.subi c1_i32_776 v9
  ![v1294.toNat]
def k0_off2400 (i : grid0.Coords) : Fin 3 → Nat :=
  let c1_i32_776 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1294 : BitVec 32 := Scalar.subi c1_i32_776 v9
  let arg1 : BitVec 32 := BitVec.ofNat 32 (i 1).val
  let c2_i32_773 : BitVec 32 := 2#32
  let v1290 : BitVec 32 := Scalar.muli arg1 c2_i32_773
  let c0_i32_774 : BitVec 32 := 0#32
  let v1291 : BitVec 32 := Scalar.addi v1290 c0_i32_774
  let c256_i32_775 : BitVec 32 := 256#32
  let v1292 : BitVec 32 := Scalar.muli v1291 c256_i32_775
  let c82_i32 : BitVec 32 := 82#32
  let v1293 : BitVec 32 := Scalar.addi v1292 c82_i32
  let c8_i32_779 : BitVec 32 := 8#32
  let v1298 : BitVec 32 := Scalar.muli v1293 c8_i32_779
  let v1299 : BitVec 32 := v1298
  let c0_i32_780 : BitVec 32 := 0#32
  ![v1294.toNat, v1299.toNat, 0]
def k0_off2401 (v1296 : BitVec 32) : Fin 2 → Nat :=
  let v1297 : BitVec 32 := v1296
  let c0_i32_781 : BitVec 32 := 0#32
  ![v1297.toNat, 0]

def k0_chk596 (i : grid0.Coords) (v1296 : BitVec 32) : Prop :=
  (∀ (k0_h3 : k0_cond3 i = 1#1), 8 ∣ (k0_mult1191 v1296).toNat) ∧
  (∀ (k0_h3 : k0_cond3 i = 1#1), ∀ a, (k0_off2401 v1296) a + S8x128.size a ≤ S131072x128.size a)
theorem k0_mult1191_dvd : ∀ (i : grid0.Coords) (v1296 : BitVec 32) (k0_hw596 : k0_chk596 i v1296), ∀ (k0_h3 : k0_cond3 i = 1#1), 8 ∣ (k0_mult1191 v1296).toNat := fun i v1296 k0_hw596 k0_h3 => k0_hw596.1 k0_h3
theorem k0_off2401_inb : ∀ (i : grid0.Coords) (v1296 : BitVec 32) (k0_hw596 : k0_chk596 i v1296), ∀ (k0_h3 : k0_cond3 i = 1#1), ∀ a, (k0_off2401 v1296) a + S8x128.size a ≤ S131072x128.size a := fun i v1296 k0_hw596 k0_h3 => k0_hw596.2 k0_h3

def k0_off2402 (i : grid0.Coords) : Fin 3 → Nat :=
  let c0_786 : Index := 0#32
  let c0_787 : Index := 0#32
  let arg1 : BitVec 32 := BitVec.ofNat 32 (i 1).val
  let c2_i32_782 : BitVec 32 := 2#32
  let v1305 : BitVec 32 := Scalar.muli arg1 c2_i32_782
  let c0_i32_783 : BitVec 32 := 0#32
  let v1306 : BitVec 32 := Scalar.addi v1305 c0_i32_783
  let c256_i32_784 : BitVec 32 := 256#32
  let v1307 : BitVec 32 := Scalar.muli v1306 c256_i32_784
  let c83_i32 : BitVec 32 := 83#32
  let v1308 : BitVec 32 := Scalar.addi v1307 c83_i32
  let v1310 : Index := Scalar.indexCast v1308
  ![0, 0, v1310.toNat]
def k0_mult1193 (v1311 : BitVec 32) : BitVec 32 :=
  v1311

def k0_mult1194 (i : grid0.Coords) : BitVec 32 :=
  let arg1 : BitVec 32 := BitVec.ofNat 32 (i 1).val
  let c2_i32_782 : BitVec 32 := 2#32
  let v1305 : BitVec 32 := Scalar.muli arg1 c2_i32_782
  let c0_i32_783 : BitVec 32 := 0#32
  let v1306 : BitVec 32 := Scalar.addi v1305 c0_i32_783
  let c256_i32_784 : BitVec 32 := 256#32
  let v1307 : BitVec 32 := Scalar.muli v1306 c256_i32_784
  let c83_i32 : BitVec 32 := 83#32
  let v1308 : BitVec 32 := Scalar.addi v1307 c83_i32
  let c8_i32_788 : BitVec 32 := 8#32
  let v1313 : BitVec 32 := Scalar.muli v1308 c8_i32_788
  v1313
def k0_off2403 (i : grid0.Coords) : Fin 1 → Nat :=
  let c1_i32_785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1309 : BitVec 32 := Scalar.subi c1_i32_785 v9
  ![v1309.toNat]
def k0_off2404 (i : grid0.Coords) : Fin 3 → Nat :=
  let c1_i32_785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1309 : BitVec 32 := Scalar.subi c1_i32_785 v9
  let arg1 : BitVec 32 := BitVec.ofNat 32 (i 1).val
  let c2_i32_782 : BitVec 32 := 2#32
  let v1305 : BitVec 32 := Scalar.muli arg1 c2_i32_782
  let c0_i32_783 : BitVec 32 := 0#32
  let v1306 : BitVec 32 := Scalar.addi v1305 c0_i32_783
  let c256_i32_784 : BitVec 32 := 256#32
  let v1307 : BitVec 32 := Scalar.muli v1306 c256_i32_784
  let c83_i32 : BitVec 32 := 83#32
  let v1308 : BitVec 32 := Scalar.addi v1307 c83_i32
  let c8_i32_788 : BitVec 32 := 8#32
  let v1313 : BitVec 32 := Scalar.muli v1308 c8_i32_788
  let v1314 : BitVec 32 := v1313
  let c0_i32_789 : BitVec 32 := 0#32
  ![v1309.toNat, v1314.toNat, 0]
def k0_off2405 (v1311 : BitVec 32) : Fin 2 → Nat :=
  let v1312 : BitVec 32 := v1311
  let c0_i32_790 : BitVec 32 := 0#32
  ![v1312.toNat, 0]

def k0_chk597 (i : grid0.Coords) (v1311 : BitVec 32) : Prop :=
  (∀ (k0_h3 : k0_cond3 i = 1#1), 8 ∣ (k0_mult1193 v1311).toNat) ∧
  (∀ (k0_h3 : k0_cond3 i = 1#1), ∀ a, (k0_off2405 v1311) a + S8x128.size a ≤ S131072x128.size a)
theorem k0_mult1193_dvd : ∀ (i : grid0.Coords) (v1311 : BitVec 32) (k0_hw597 : k0_chk597 i v1311), ∀ (k0_h3 : k0_cond3 i = 1#1), 8 ∣ (k0_mult1193 v1311).toNat := fun i v1311 k0_hw597 k0_h3 => k0_hw597.1 k0_h3
theorem k0_off2405_inb : ∀ (i : grid0.Coords) (v1311 : BitVec 32) (k0_hw597 : k0_chk597 i v1311), ∀ (k0_h3 : k0_cond3 i = 1#1), ∀ a, (k0_off2405 v1311) a + S8x128.size a ≤ S131072x128.size a := fun i v1311 k0_hw597 k0_h3 => k0_hw597.2 k0_h3

def k0_off2406 (i : grid0.Coords) : Fin 3 → Nat :=
  let c0_795 : Index := 0#32
  let c0_796 : Index := 0#32
  let arg1 : BitVec 32 := BitVec.ofNat 32 (i 1).val
  let c2_i32_791 : BitVec 32 := 2#32
  let v1320 : BitVec 32 := Scalar.muli arg1 c2_i32_791
  let c0_i32_792 : BitVec 32 := 0#32
  let v1321 : BitVec 32 := Scalar.addi v1320 c0_i32_792
  let c256_i32_793 : BitVec 32 := 256#32
  let v1322 : BitVec 32 := Scalar.muli v1321 c256_i32_793
  let c84_i32 : BitVec 32 := 84#32
  let v1323 : BitVec 32 := Scalar.addi v1322 c84_i32
  let v1325 : Index := Scalar.indexCast v1323
  ![0, 0, v1325.toNat]
def k0_mult1195 (v1326 : BitVec 32) : BitVec 32 :=
  v1326

def k0_mult1196 (i : grid0.Coords) : BitVec 32 :=
  let arg1 : BitVec 32 := BitVec.ofNat 32 (i 1).val
  let c2_i32_791 : BitVec 32 := 2#32
  let v1320 : BitVec 32 := Scalar.muli arg1 c2_i32_791
  let c0_i32_792 : BitVec 32 := 0#32
  let v1321 : BitVec 32 := Scalar.addi v1320 c0_i32_792
  let c256_i32_793 : BitVec 32 := 256#32
  let v1322 : BitVec 32 := Scalar.muli v1321 c256_i32_793
  let c84_i32 : BitVec 32 := 84#32
  let v1323 : BitVec 32 := Scalar.addi v1322 c84_i32
  let c8_i32_797 : BitVec 32 := 8#32
  let v1328 : BitVec 32 := Scalar.muli v1323 c8_i32_797
  v1328
def k0_off2407 (i : grid0.Coords) : Fin 1 → Nat :=
  let c1_i32_794 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1324 : BitVec 32 := Scalar.subi c1_i32_794 v9
  ![v1324.toNat]
def k0_off2408 (i : grid0.Coords) : Fin 3 → Nat :=
  let c1_i32_794 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1324 : BitVec 32 := Scalar.subi c1_i32_794 v9
  let arg1 : BitVec 32 := BitVec.ofNat 32 (i 1).val
  let c2_i32_791 : BitVec 32 := 2#32
  let v1320 : BitVec 32 := Scalar.muli arg1 c2_i32_791
  let c0_i32_792 : BitVec 32 := 0#32
  let v1321 : BitVec 32 := Scalar.addi v1320 c0_i32_792
  let c256_i32_793 : BitVec 32 := 256#32
  let v1322 : BitVec 32 := Scalar.muli v1321 c256_i32_793
  let c84_i32 : BitVec 32 := 84#32
  let v1323 : BitVec 32 := Scalar.addi v1322 c84_i32
  let c8_i32_797 : BitVec 32 := 8#32
  let v1328 : BitVec 32 := Scalar.muli v1323 c8_i32_797
  let v1329 : BitVec 32 := v1328
  let c0_i32_798 : BitVec 32 := 0#32
  ![v1324.toNat, v1329.toNat, 0]
def k0_off2409 (v1326 : BitVec 32) : Fin 2 → Nat :=
  let v1327 : BitVec 32 := v1326
  let c0_i32_799 : BitVec 32 := 0#32
  ![v1327.toNat, 0]

def k0_chk598 (i : grid0.Coords) (v1326 : BitVec 32) : Prop :=
  (∀ (k0_h3 : k0_cond3 i = 1#1), 8 ∣ (k0_mult1195 v1326).toNat) ∧
  (∀ (k0_h3 : k0_cond3 i = 1#1), ∀ a, (k0_off2409 v1326) a + S8x128.size a ≤ S131072x128.size a)
theorem k0_mult1195_dvd : ∀ (i : grid0.Coords) (v1326 : BitVec 32) (k0_hw598 : k0_chk598 i v1326), ∀ (k0_h3 : k0_cond3 i = 1#1), 8 ∣ (k0_mult1195 v1326).toNat := fun i v1326 k0_hw598 k0_h3 => k0_hw598.1 k0_h3
theorem k0_off2409_inb : ∀ (i : grid0.Coords) (v1326 : BitVec 32) (k0_hw598 : k0_chk598 i v1326), ∀ (k0_h3 : k0_cond3 i = 1#1), ∀ a, (k0_off2409 v1326) a + S8x128.size a ≤ S131072x128.size a := fun i v1326 k0_hw598 k0_h3 => k0_hw598.2 k0_h3

def k0_off2410 (i : grid0.Coords) : Fin 3 → Nat :=
  let c0_804 : Index := 0#32
  let c0_805 : Index := 0#32
  let arg1 : BitVec 32 := BitVec.ofNat 32 (i 1).val
  let c2_i32_800 : BitVec 32 := 2#32
  let v1335 : BitVec 32 := Scalar.muli arg1 c2_i32_800
  let c0_i32_801 : BitVec 32 := 0#32
  let v1336 : BitVec 32 := Scalar.addi v1335 c0_i32_801
  let c256_i32_802 : BitVec 32 := 256#32
  let v1337 : BitVec 32 := Scalar.muli v1336 c256_i32_802
  let c85_i32 : BitVec 32 := 85#32
  let v1338 : BitVec 32 := Scalar.addi v1337 c85_i32
  let v1340 : Index := Scalar.indexCast v1338
  ![0, 0, v1340.toNat]
def k0_mult1197 (v1341 : BitVec 32) : BitVec 32 :=
  v1341

def k0_mult1198 (i : grid0.Coords) : BitVec 32 :=
  let arg1 : BitVec 32 := BitVec.ofNat 32 (i 1).val
  let c2_i32_800 : BitVec 32 := 2#32
  let v1335 : BitVec 32 := Scalar.muli arg1 c2_i32_800
  let c0_i32_801 : BitVec 32 := 0#32
  let v1336 : BitVec 32 := Scalar.addi v1335 c0_i32_801
  let c256_i32_802 : BitVec 32 := 256#32
  let v1337 : BitVec 32 := Scalar.muli v1336 c256_i32_802
  let c85_i32 : BitVec 32 := 85#32
  let v1338 : BitVec 32 := Scalar.addi v1337 c85_i32
  let c8_i32_806 : BitVec 32 := 8#32
  let v1343 : BitVec 32 := Scalar.muli v1338 c8_i32_806
  v1343
def k0_off2411 (i : grid0.Coords) : Fin 1 → Nat :=
  let c1_i32_803 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1339 : BitVec 32 := Scalar.subi c1_i32_803 v9
  ![v1339.toNat]
def k0_off2412 (i : grid0.Coords) : Fin 3 → Nat :=
  let c1_i32_803 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1339 : BitVec 32 := Scalar.subi c1_i32_803 v9
  let arg1 : BitVec 32 := BitVec.ofNat 32 (i 1).val
  let c2_i32_800 : BitVec 32 := 2#32
  let v1335 : BitVec 32 := Scalar.muli arg1 c2_i32_800
  let c0_i32_801 : BitVec 32 := 0#32
  let v1336 : BitVec 32 := Scalar.addi v1335 c0_i32_801
  let c256_i32_802 : BitVec 32 := 256#32
  let v1337 : BitVec 32 := Scalar.muli v1336 c256_i32_802
  let c85_i32 : BitVec 32 := 85#32
  let v1338 : BitVec 32 := Scalar.addi v1337 c85_i32
  let c8_i32_806 : BitVec 32 := 8#32
  let v1343 : BitVec 32 := Scalar.muli v1338 c8_i32_806
  let v1344 : BitVec 32 := v1343
  let c0_i32_807 : BitVec 32 := 0#32
  ![v1339.toNat, v1344.toNat, 0]
def k0_off2413 (v1341 : BitVec 32) : Fin 2 → Nat :=
  let v1342 : BitVec 32 := v1341
  let c0_i32_808 : BitVec 32 := 0#32
  ![v1342.toNat, 0]

def k0_chk599 (i : grid0.Coords) (v1341 : BitVec 32) : Prop :=
  (∀ (k0_h3 : k0_cond3 i = 1#1), 8 ∣ (k0_mult1197 v1341).toNat) ∧
  (∀ (k0_h3 : k0_cond3 i = 1#1), ∀ a, (k0_off2413 v1341) a + S8x128.size a ≤ S131072x128.size a)
theorem k0_mult1197_dvd : ∀ (i : grid0.Coords) (v1341 : BitVec 32) (k0_hw599 : k0_chk599 i v1341), ∀ (k0_h3 : k0_cond3 i = 1#1), 8 ∣ (k0_mult1197 v1341).toNat := fun i v1341 k0_hw599 k0_h3 => k0_hw599.1 k0_h3
theorem k0_off2413_inb : ∀ (i : grid0.Coords) (v1341 : BitVec 32) (k0_hw599 : k0_chk599 i v1341), ∀ (k0_h3 : k0_cond3 i = 1#1), ∀ a, (k0_off2413 v1341) a + S8x128.size a ≤ S131072x128.size a := fun i v1341 k0_hw599 k0_h3 => k0_hw599.2 k0_h3

def k0_off2414 (i : grid0.Coords) : Fin 3 → Nat :=
  let c0_813 : Index := 0#32
  let c0_814 : Index := 0#32
  let arg1 : BitVec 32 := BitVec.ofNat 32 (i 1).val
  let c2_i32_809 : BitVec 32 := 2#32
  let v1350 : BitVec 32 := Scalar.muli arg1 c2_i32_809
  let c0_i32_810 : BitVec 32 := 0#32
  let v1351 : BitVec 32 := Scalar.addi v1350 c0_i32_810
  let c256_i32_811 : BitVec 32 := 256#32
  let v1352 : BitVec 32 := Scalar.muli v1351 c256_i32_811
  let c86_i32 : BitVec 32 := 86#32
  let v1353 : BitVec 32 := Scalar.addi v1352 c86_i32
  let v1355 : Index := Scalar.indexCast v1353
  ![0, 0, v1355.toNat]
def k0_mult1199 (v1356 : BitVec 32) : BitVec 32 :=
  v1356

def k0_mult1200 (i : grid0.Coords) : BitVec 32 :=
  let arg1 : BitVec 32 := BitVec.ofNat 32 (i 1).val
  let c2_i32_809 : BitVec 32 := 2#32
  let v1350 : BitVec 32 := Scalar.muli arg1 c2_i32_809
  let c0_i32_810 : BitVec 32 := 0#32
  let v1351 : BitVec 32 := Scalar.addi v1350 c0_i32_810
  let c256_i32_811 : BitVec 32 := 256#32
  let v1352 : BitVec 32 := Scalar.muli v1351 c256_i32_811
  let c86_i32 : BitVec 32 := 86#32
  let v1353 : BitVec 32 := Scalar.addi v1352 c86_i32
  let c8_i32_815 : BitVec 32 := 8#32
  let v1358 : BitVec 32 := Scalar.muli v1353 c8_i32_815
  v1358
def k0_off2415 (i : grid0.Coords) : Fin 1 → Nat :=
  let c1_i32_812 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1354 : BitVec 32 := Scalar.subi c1_i32_812 v9
  ![v1354.toNat]
def k0_off2416 (i : grid0.Coords) : Fin 3 → Nat :=
  let c1_i32_812 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1354 : BitVec 32 := Scalar.subi c1_i32_812 v9
  let arg1 : BitVec 32 := BitVec.ofNat 32 (i 1).val
  let c2_i32_809 : BitVec 32 := 2#32
  let v1350 : BitVec 32 := Scalar.muli arg1 c2_i32_809
  let c0_i32_810 : BitVec 32 := 0#32
  let v1351 : BitVec 32 := Scalar.addi v1350 c0_i32_810
  let c256_i32_811 : BitVec 32 := 256#32
  let v1352 : BitVec 32 := Scalar.muli v1351 c256_i32_811
  let c86_i32 : BitVec 32 := 86#32
  let v1353 : BitVec 32 := Scalar.addi v1352 c86_i32
  let c8_i32_815 : BitVec 32 := 8#32
  let v1358 : BitVec 32 := Scalar.muli v1353 c8_i32_815
  let v1359 : BitVec 32 := v1358
  let c0_i32_816 : BitVec 32 := 0#32
  ![v1354.toNat, v1359.toNat, 0]
def k0_off2417 (v1356 : BitVec 32) : Fin 2 → Nat :=
  let v1357 : BitVec 32 := v1356
  let c0_i32_817 : BitVec 32 := 0#32
  ![v1357.toNat, 0]

def k0_chk600 (i : grid0.Coords) (v1356 : BitVec 32) : Prop :=
  (∀ (k0_h3 : k0_cond3 i = 1#1), 8 ∣ (k0_mult1199 v1356).toNat) ∧
  (∀ (k0_h3 : k0_cond3 i = 1#1), ∀ a, (k0_off2417 v1356) a + S8x128.size a ≤ S131072x128.size a)
theorem k0_mult1199_dvd : ∀ (i : grid0.Coords) (v1356 : BitVec 32) (k0_hw600 : k0_chk600 i v1356), ∀ (k0_h3 : k0_cond3 i = 1#1), 8 ∣ (k0_mult1199 v1356).toNat := fun i v1356 k0_hw600 k0_h3 => k0_hw600.1 k0_h3
theorem k0_off2417_inb : ∀ (i : grid0.Coords) (v1356 : BitVec 32) (k0_hw600 : k0_chk600 i v1356), ∀ (k0_h3 : k0_cond3 i = 1#1), ∀ a, (k0_off2417 v1356) a + S8x128.size a ≤ S131072x128.size a := fun i v1356 k0_hw600 k0_h3 => k0_hw600.2 k0_h3

def k0_off2418 (i : grid0.Coords) : Fin 3 → Nat :=
  let c0_822 : Index := 0#32
  let c0_823 : Index := 0#32
  let arg1 : BitVec 32 := BitVec.ofNat 32 (i 1).val
  let c2_i32_818 : BitVec 32 := 2#32
  let v1365 : BitVec 32 := Scalar.muli arg1 c2_i32_818
  let c0_i32_819 : BitVec 32 := 0#32
  let v1366 : BitVec 32 := Scalar.addi v1365 c0_i32_819
  let c256_i32_820 : BitVec 32 := 256#32
  let v1367 : BitVec 32 := Scalar.muli v1366 c256_i32_820
  let c87_i32 : BitVec 32 := 87#32
  let v1368 : BitVec 32 := Scalar.addi v1367 c87_i32
  let v1370 : Index := Scalar.indexCast v1368
  ![0, 0, v1370.toNat]
def k0_mult1201 (v1371 : BitVec 32) : BitVec 32 :=
  v1371

def k0_mult1202 (i : grid0.Coords) : BitVec 32 :=
  let arg1 : BitVec 32 := BitVec.ofNat 32 (i 1).val
  let c2_i32_818 : BitVec 32 := 2#32
  let v1365 : BitVec 32 := Scalar.muli arg1 c2_i32_818
  let c0_i32_819 : BitVec 32 := 0#32
  let v1366 : BitVec 32 := Scalar.addi v1365 c0_i32_819
  let c256_i32_820 : BitVec 32 := 256#32
  let v1367 : BitVec 32 := Scalar.muli v1366 c256_i32_820
  let c87_i32 : BitVec 32 := 87#32
  let v1368 : BitVec 32 := Scalar.addi v1367 c87_i32
  let c8_i32_824 : BitVec 32 := 8#32
  let v1373 : BitVec 32 := Scalar.muli v1368 c8_i32_824
  v1373
def k0_off2419 (i : grid0.Coords) : Fin 1 → Nat :=
  let c1_i32_821 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1369 : BitVec 32 := Scalar.subi c1_i32_821 v9
  ![v1369.toNat]
def k0_off2420 (i : grid0.Coords) : Fin 3 → Nat :=
  let c1_i32_821 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1369 : BitVec 32 := Scalar.subi c1_i32_821 v9
  let arg1 : BitVec 32 := BitVec.ofNat 32 (i 1).val
  let c2_i32_818 : BitVec 32 := 2#32
  let v1365 : BitVec 32 := Scalar.muli arg1 c2_i32_818
  let c0_i32_819 : BitVec 32 := 0#32
  let v1366 : BitVec 32 := Scalar.addi v1365 c0_i32_819
  let c256_i32_820 : BitVec 32 := 256#32
  let v1367 : BitVec 32 := Scalar.muli v1366 c256_i32_820
  let c87_i32 : BitVec 32 := 87#32
  let v1368 : BitVec 32 := Scalar.addi v1367 c87_i32
  let c8_i32_824 : BitVec 32 := 8#32
  let v1373 : BitVec 32 := Scalar.muli v1368 c8_i32_824
  let v1374 : BitVec 32 := v1373
  let c0_i32_825 : BitVec 32 := 0#32
  ![v1369.toNat, v1374.toNat, 0]
def k0_off2421 (v1371 : BitVec 32) : Fin 2 → Nat :=
  let v1372 : BitVec 32 := v1371
  let c0_i32_826 : BitVec 32 := 0#32
  ![v1372.toNat, 0]

def k0_chk601 (i : grid0.Coords) (v1371 : BitVec 32) : Prop :=
  (∀ (k0_h3 : k0_cond3 i = 1#1), 8 ∣ (k0_mult1201 v1371).toNat) ∧
  (∀ (k0_h3 : k0_cond3 i = 1#1), ∀ a, (k0_off2421 v1371) a + S8x128.size a ≤ S131072x128.size a)
theorem k0_mult1201_dvd : ∀ (i : grid0.Coords) (v1371 : BitVec 32) (k0_hw601 : k0_chk601 i v1371), ∀ (k0_h3 : k0_cond3 i = 1#1), 8 ∣ (k0_mult1201 v1371).toNat := fun i v1371 k0_hw601 k0_h3 => k0_hw601.1 k0_h3
theorem k0_off2421_inb : ∀ (i : grid0.Coords) (v1371 : BitVec 32) (k0_hw601 : k0_chk601 i v1371), ∀ (k0_h3 : k0_cond3 i = 1#1), ∀ a, (k0_off2421 v1371) a + S8x128.size a ≤ S131072x128.size a := fun i v1371 k0_hw601 k0_h3 => k0_hw601.2 k0_h3

def k0_off2422 (i : grid0.Coords) : Fin 3 → Nat :=
  let c0_831 : Index := 0#32
  let c0_832 : Index := 0#32
  let arg1 : BitVec 32 := BitVec.ofNat 32 (i 1).val
  let c2_i32_827 : BitVec 32 := 2#32
  let v1380 : BitVec 32 := Scalar.muli arg1 c2_i32_827
  let c0_i32_828 : BitVec 32 := 0#32
  let v1381 : BitVec 32 := Scalar.addi v1380 c0_i32_828
  let c256_i32_829 : BitVec 32 := 256#32
  let v1382 : BitVec 32 := Scalar.muli v1381 c256_i32_829
  let c88_i32 : BitVec 32 := 88#32
  let v1383 : BitVec 32 := Scalar.addi v1382 c88_i32
  let v1385 : Index := Scalar.indexCast v1383
  ![0, 0, v1385.toNat]
def k0_mult1203 (v1386 : BitVec 32) : BitVec 32 :=
  v1386

def k0_mult1204 (i : grid0.Coords) : BitVec 32 :=
  let arg1 : BitVec 32 := BitVec.ofNat 32 (i 1).val
  let c2_i32_827 : BitVec 32 := 2#32
  let v1380 : BitVec 32 := Scalar.muli arg1 c2_i32_827
  let c0_i32_828 : BitVec 32 := 0#32
  let v1381 : BitVec 32 := Scalar.addi v1380 c0_i32_828
  let c256_i32_829 : BitVec 32 := 256#32
  let v1382 : BitVec 32 := Scalar.muli v1381 c256_i32_829
  let c88_i32 : BitVec 32 := 88#32
  let v1383 : BitVec 32 := Scalar.addi v1382 c88_i32
  let c8_i32_833 : BitVec 32 := 8#32
  let v1388 : BitVec 32 := Scalar.muli v1383 c8_i32_833
  v1388
def k0_off2423 (i : grid0.Coords) : Fin 1 → Nat :=
  let c1_i32_830 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1384 : BitVec 32 := Scalar.subi c1_i32_830 v9
  ![v1384.toNat]
def k0_off2424 (i : grid0.Coords) : Fin 3 → Nat :=
  let c1_i32_830 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1384 : BitVec 32 := Scalar.subi c1_i32_830 v9
  let arg1 : BitVec 32 := BitVec.ofNat 32 (i 1).val
  let c2_i32_827 : BitVec 32 := 2#32
  let v1380 : BitVec 32 := Scalar.muli arg1 c2_i32_827
  let c0_i32_828 : BitVec 32 := 0#32
  let v1381 : BitVec 32 := Scalar.addi v1380 c0_i32_828
  let c256_i32_829 : BitVec 32 := 256#32
  let v1382 : BitVec 32 := Scalar.muli v1381 c256_i32_829
  let c88_i32 : BitVec 32 := 88#32
  let v1383 : BitVec 32 := Scalar.addi v1382 c88_i32
  let c8_i32_833 : BitVec 32 := 8#32
  let v1388 : BitVec 32 := Scalar.muli v1383 c8_i32_833
  let v1389 : BitVec 32 := v1388
  let c0_i32_834 : BitVec 32 := 0#32
  ![v1384.toNat, v1389.toNat, 0]
def k0_off2425 (v1386 : BitVec 32) : Fin 2 → Nat :=
  let v1387 : BitVec 32 := v1386
  let c0_i32_835 : BitVec 32 := 0#32
  ![v1387.toNat, 0]

def k0_chk602 (i : grid0.Coords) (v1386 : BitVec 32) : Prop :=
  (∀ (k0_h3 : k0_cond3 i = 1#1), 8 ∣ (k0_mult1203 v1386).toNat) ∧
  (∀ (k0_h3 : k0_cond3 i = 1#1), ∀ a, (k0_off2425 v1386) a + S8x128.size a ≤ S131072x128.size a)
theorem k0_mult1203_dvd : ∀ (i : grid0.Coords) (v1386 : BitVec 32) (k0_hw602 : k0_chk602 i v1386), ∀ (k0_h3 : k0_cond3 i = 1#1), 8 ∣ (k0_mult1203 v1386).toNat := fun i v1386 k0_hw602 k0_h3 => k0_hw602.1 k0_h3
theorem k0_off2425_inb : ∀ (i : grid0.Coords) (v1386 : BitVec 32) (k0_hw602 : k0_chk602 i v1386), ∀ (k0_h3 : k0_cond3 i = 1#1), ∀ a, (k0_off2425 v1386) a + S8x128.size a ≤ S131072x128.size a := fun i v1386 k0_hw602 k0_h3 => k0_hw602.2 k0_h3

def k0_off2426 (i : grid0.Coords) : Fin 3 → Nat :=
  let c0_840 : Index := 0#32
  let c0_841 : Index := 0#32
  let arg1 : BitVec 32 := BitVec.ofNat 32 (i 1).val
  let c2_i32_836 : BitVec 32 := 2#32
  let v1395 : BitVec 32 := Scalar.muli arg1 c2_i32_836
  let c0_i32_837 : BitVec 32 := 0#32
  let v1396 : BitVec 32 := Scalar.addi v1395 c0_i32_837
  let c256_i32_838 : BitVec 32 := 256#32
  let v1397 : BitVec 32 := Scalar.muli v1396 c256_i32_838
  let c89_i32 : BitVec 32 := 89#32
  let v1398 : BitVec 32 := Scalar.addi v1397 c89_i32
  let v1400 : Index := Scalar.indexCast v1398
  ![0, 0, v1400.toNat]
def k0_mult1205 (v1401 : BitVec 32) : BitVec 32 :=
  v1401

def k0_mult1206 (i : grid0.Coords) : BitVec 32 :=
  let arg1 : BitVec 32 := BitVec.ofNat 32 (i 1).val
  let c2_i32_836 : BitVec 32 := 2#32
  let v1395 : BitVec 32 := Scalar.muli arg1 c2_i32_836
  let c0_i32_837 : BitVec 32 := 0#32
  let v1396 : BitVec 32 := Scalar.addi v1395 c0_i32_837
  let c256_i32_838 : BitVec 32 := 256#32
  let v1397 : BitVec 32 := Scalar.muli v1396 c256_i32_838
  let c89_i32 : BitVec 32 := 89#32
  let v1398 : BitVec 32 := Scalar.addi v1397 c89_i32
  let c8_i32_842 : BitVec 32 := 8#32
  let v1403 : BitVec 32 := Scalar.muli v1398 c8_i32_842
  v1403
def k0_off2427 (i : grid0.Coords) : Fin 1 → Nat :=
  let c1_i32_839 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1399 : BitVec 32 := Scalar.subi c1_i32_839 v9
  ![v1399.toNat]
def k0_off2428 (i : grid0.Coords) : Fin 3 → Nat :=
  let c1_i32_839 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1399 : BitVec 32 := Scalar.subi c1_i32_839 v9
  let arg1 : BitVec 32 := BitVec.ofNat 32 (i 1).val
  let c2_i32_836 : BitVec 32 := 2#32
  let v1395 : BitVec 32 := Scalar.muli arg1 c2_i32_836
  let c0_i32_837 : BitVec 32 := 0#32
  let v1396 : BitVec 32 := Scalar.addi v1395 c0_i32_837
  let c256_i32_838 : BitVec 32 := 256#32
  let v1397 : BitVec 32 := Scalar.muli v1396 c256_i32_838
  let c89_i32 : BitVec 32 := 89#32
  let v1398 : BitVec 32 := Scalar.addi v1397 c89_i32
  let c8_i32_842 : BitVec 32 := 8#32
  let v1403 : BitVec 32 := Scalar.muli v1398 c8_i32_842
  let v1404 : BitVec 32 := v1403
  let c0_i32_843 : BitVec 32 := 0#32
  ![v1399.toNat, v1404.toNat, 0]
def k0_off2429 (v1401 : BitVec 32) : Fin 2 → Nat :=
  let v1402 : BitVec 32 := v1401
  let c0_i32_844 : BitVec 32 := 0#32
  ![v1402.toNat, 0]

def k0_chk603 (i : grid0.Coords) (v1401 : BitVec 32) : Prop :=
  (∀ (k0_h3 : k0_cond3 i = 1#1), 8 ∣ (k0_mult1205 v1401).toNat) ∧
  (∀ (k0_h3 : k0_cond3 i = 1#1), ∀ a, (k0_off2429 v1401) a + S8x128.size a ≤ S131072x128.size a)
theorem k0_mult1205_dvd : ∀ (i : grid0.Coords) (v1401 : BitVec 32) (k0_hw603 : k0_chk603 i v1401), ∀ (k0_h3 : k0_cond3 i = 1#1), 8 ∣ (k0_mult1205 v1401).toNat := fun i v1401 k0_hw603 k0_h3 => k0_hw603.1 k0_h3
theorem k0_off2429_inb : ∀ (i : grid0.Coords) (v1401 : BitVec 32) (k0_hw603 : k0_chk603 i v1401), ∀ (k0_h3 : k0_cond3 i = 1#1), ∀ a, (k0_off2429 v1401) a + S8x128.size a ≤ S131072x128.size a := fun i v1401 k0_hw603 k0_h3 => k0_hw603.2 k0_h3

def k0_off2430 (i : grid0.Coords) : Fin 3 → Nat :=
  let c0_849 : Index := 0#32
  let c0_850 : Index := 0#32
  let arg1 : BitVec 32 := BitVec.ofNat 32 (i 1).val
  let c2_i32_845 : BitVec 32 := 2#32
  let v1410 : BitVec 32 := Scalar.muli arg1 c2_i32_845
  let c0_i32_846 : BitVec 32 := 0#32
  let v1411 : BitVec 32 := Scalar.addi v1410 c0_i32_846
  let c256_i32_847 : BitVec 32 := 256#32
  let v1412 : BitVec 32 := Scalar.muli v1411 c256_i32_847
  let c90_i32 : BitVec 32 := 90#32
  let v1413 : BitVec 32 := Scalar.addi v1412 c90_i32
  let v1415 : Index := Scalar.indexCast v1413
  ![0, 0, v1415.toNat]
def k0_mult1207 (v1416 : BitVec 32) : BitVec 32 :=
  v1416

def k0_mult1208 (i : grid0.Coords) : BitVec 32 :=
  let arg1 : BitVec 32 := BitVec.ofNat 32 (i 1).val
  let c2_i32_845 : BitVec 32 := 2#32
  let v1410 : BitVec 32 := Scalar.muli arg1 c2_i32_845
  let c0_i32_846 : BitVec 32 := 0#32
  let v1411 : BitVec 32 := Scalar.addi v1410 c0_i32_846
  let c256_i32_847 : BitVec 32 := 256#32
  let v1412 : BitVec 32 := Scalar.muli v1411 c256_i32_847
  let c90_i32 : BitVec 32 := 90#32
  let v1413 : BitVec 32 := Scalar.addi v1412 c90_i32
  let c8_i32_851 : BitVec 32 := 8#32
  let v1418 : BitVec 32 := Scalar.muli v1413 c8_i32_851
  v1418
def k0_off2431 (i : grid0.Coords) : Fin 1 → Nat :=
  let c1_i32_848 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1414 : BitVec 32 := Scalar.subi c1_i32_848 v9
  ![v1414.toNat]
def k0_off2432 (i : grid0.Coords) : Fin 3 → Nat :=
  let c1_i32_848 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1414 : BitVec 32 := Scalar.subi c1_i32_848 v9
  let arg1 : BitVec 32 := BitVec.ofNat 32 (i 1).val
  let c2_i32_845 : BitVec 32 := 2#32
  let v1410 : BitVec 32 := Scalar.muli arg1 c2_i32_845
  let c0_i32_846 : BitVec 32 := 0#32
  let v1411 : BitVec 32 := Scalar.addi v1410 c0_i32_846
  let c256_i32_847 : BitVec 32 := 256#32
  let v1412 : BitVec 32 := Scalar.muli v1411 c256_i32_847
  let c90_i32 : BitVec 32 := 90#32
  let v1413 : BitVec 32 := Scalar.addi v1412 c90_i32
  let c8_i32_851 : BitVec 32 := 8#32
  let v1418 : BitVec 32 := Scalar.muli v1413 c8_i32_851
  let v1419 : BitVec 32 := v1418
  let c0_i32_852 : BitVec 32 := 0#32
  ![v1414.toNat, v1419.toNat, 0]
def k0_off2433 (v1416 : BitVec 32) : Fin 2 → Nat :=
  let v1417 : BitVec 32 := v1416
  let c0_i32_853 : BitVec 32 := 0#32
  ![v1417.toNat, 0]

def k0_chk604 (i : grid0.Coords) (v1416 : BitVec 32) : Prop :=
  (∀ (k0_h3 : k0_cond3 i = 1#1), 8 ∣ (k0_mult1207 v1416).toNat) ∧
  (∀ (k0_h3 : k0_cond3 i = 1#1), ∀ a, (k0_off2433 v1416) a + S8x128.size a ≤ S131072x128.size a)
theorem k0_mult1207_dvd : ∀ (i : grid0.Coords) (v1416 : BitVec 32) (k0_hw604 : k0_chk604 i v1416), ∀ (k0_h3 : k0_cond3 i = 1#1), 8 ∣ (k0_mult1207 v1416).toNat := fun i v1416 k0_hw604 k0_h3 => k0_hw604.1 k0_h3
theorem k0_off2433_inb : ∀ (i : grid0.Coords) (v1416 : BitVec 32) (k0_hw604 : k0_chk604 i v1416), ∀ (k0_h3 : k0_cond3 i = 1#1), ∀ a, (k0_off2433 v1416) a + S8x128.size a ≤ S131072x128.size a := fun i v1416 k0_hw604 k0_h3 => k0_hw604.2 k0_h3

def k0_off2434 (i : grid0.Coords) : Fin 3 → Nat :=
  let c0_858 : Index := 0#32
  let c0_859 : Index := 0#32
  let arg1 : BitVec 32 := BitVec.ofNat 32 (i 1).val
  let c2_i32_854 : BitVec 32 := 2#32
  let v1425 : BitVec 32 := Scalar.muli arg1 c2_i32_854
  let c0_i32_855 : BitVec 32 := 0#32
  let v1426 : BitVec 32 := Scalar.addi v1425 c0_i32_855
  let c256_i32_856 : BitVec 32 := 256#32
  let v1427 : BitVec 32 := Scalar.muli v1426 c256_i32_856
  let c91_i32 : BitVec 32 := 91#32
  let v1428 : BitVec 32 := Scalar.addi v1427 c91_i32
  let v1430 : Index := Scalar.indexCast v1428
  ![0, 0, v1430.toNat]
def k0_mult1209 (v1431 : BitVec 32) : BitVec 32 :=
  v1431

def k0_mult1210 (i : grid0.Coords) : BitVec 32 :=
  let arg1 : BitVec 32 := BitVec.ofNat 32 (i 1).val
  let c2_i32_854 : BitVec 32 := 2#32
  let v1425 : BitVec 32 := Scalar.muli arg1 c2_i32_854
  let c0_i32_855 : BitVec 32 := 0#32
  let v1426 : BitVec 32 := Scalar.addi v1425 c0_i32_855
  let c256_i32_856 : BitVec 32 := 256#32
  let v1427 : BitVec 32 := Scalar.muli v1426 c256_i32_856
  let c91_i32 : BitVec 32 := 91#32
  let v1428 : BitVec 32 := Scalar.addi v1427 c91_i32
  let c8_i32_860 : BitVec 32 := 8#32
  let v1433 : BitVec 32 := Scalar.muli v1428 c8_i32_860
  v1433
def k0_off2435 (i : grid0.Coords) : Fin 1 → Nat :=
  let c1_i32_857 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1429 : BitVec 32 := Scalar.subi c1_i32_857 v9
  ![v1429.toNat]
def k0_off2436 (i : grid0.Coords) : Fin 3 → Nat :=
  let c1_i32_857 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1429 : BitVec 32 := Scalar.subi c1_i32_857 v9
  let arg1 : BitVec 32 := BitVec.ofNat 32 (i 1).val
  let c2_i32_854 : BitVec 32 := 2#32
  let v1425 : BitVec 32 := Scalar.muli arg1 c2_i32_854
  let c0_i32_855 : BitVec 32 := 0#32
  let v1426 : BitVec 32 := Scalar.addi v1425 c0_i32_855
  let c256_i32_856 : BitVec 32 := 256#32
  let v1427 : BitVec 32 := Scalar.muli v1426 c256_i32_856
  let c91_i32 : BitVec 32 := 91#32
  let v1428 : BitVec 32 := Scalar.addi v1427 c91_i32
  let c8_i32_860 : BitVec 32 := 8#32
  let v1433 : BitVec 32 := Scalar.muli v1428 c8_i32_860
  let v1434 : BitVec 32 := v1433
  let c0_i32_861 : BitVec 32 := 0#32
  ![v1429.toNat, v1434.toNat, 0]
def k0_off2437 (v1431 : BitVec 32) : Fin 2 → Nat :=
  let v1432 : BitVec 32 := v1431
  let c0_i32_862 : BitVec 32 := 0#32
  ![v1432.toNat, 0]

def k0_chk605 (i : grid0.Coords) (v1431 : BitVec 32) : Prop :=
  (∀ (k0_h3 : k0_cond3 i = 1#1), 8 ∣ (k0_mult1209 v1431).toNat) ∧
  (∀ (k0_h3 : k0_cond3 i = 1#1), ∀ a, (k0_off2437 v1431) a + S8x128.size a ≤ S131072x128.size a)
theorem k0_mult1209_dvd : ∀ (i : grid0.Coords) (v1431 : BitVec 32) (k0_hw605 : k0_chk605 i v1431), ∀ (k0_h3 : k0_cond3 i = 1#1), 8 ∣ (k0_mult1209 v1431).toNat := fun i v1431 k0_hw605 k0_h3 => k0_hw605.1 k0_h3
theorem k0_off2437_inb : ∀ (i : grid0.Coords) (v1431 : BitVec 32) (k0_hw605 : k0_chk605 i v1431), ∀ (k0_h3 : k0_cond3 i = 1#1), ∀ a, (k0_off2437 v1431) a + S8x128.size a ≤ S131072x128.size a := fun i v1431 k0_hw605 k0_h3 => k0_hw605.2 k0_h3

def k0_off2438 (i : grid0.Coords) : Fin 3 → Nat :=
  let c0_867 : Index := 0#32
  let c0_868 : Index := 0#32
  let arg1 : BitVec 32 := BitVec.ofNat 32 (i 1).val
  let c2_i32_863 : BitVec 32 := 2#32
  let v1440 : BitVec 32 := Scalar.muli arg1 c2_i32_863
  let c0_i32_864 : BitVec 32 := 0#32
  let v1441 : BitVec 32 := Scalar.addi v1440 c0_i32_864
  let c256_i32_865 : BitVec 32 := 256#32
  let v1442 : BitVec 32 := Scalar.muli v1441 c256_i32_865
  let c92_i32 : BitVec 32 := 92#32
  let v1443 : BitVec 32 := Scalar.addi v1442 c92_i32
  let v1445 : Index := Scalar.indexCast v1443
  ![0, 0, v1445.toNat]
def k0_mult1211 (v1446 : BitVec 32) : BitVec 32 :=
  v1446

def k0_mult1212 (i : grid0.Coords) : BitVec 32 :=
  let arg1 : BitVec 32 := BitVec.ofNat 32 (i 1).val
  let c2_i32_863 : BitVec 32 := 2#32
  let v1440 : BitVec 32 := Scalar.muli arg1 c2_i32_863
  let c0_i32_864 : BitVec 32 := 0#32
  let v1441 : BitVec 32 := Scalar.addi v1440 c0_i32_864
  let c256_i32_865 : BitVec 32 := 256#32
  let v1442 : BitVec 32 := Scalar.muli v1441 c256_i32_865
  let c92_i32 : BitVec 32 := 92#32
  let v1443 : BitVec 32 := Scalar.addi v1442 c92_i32
  let c8_i32_869 : BitVec 32 := 8#32
  let v1448 : BitVec 32 := Scalar.muli v1443 c8_i32_869
  v1448
def k0_off2439 (i : grid0.Coords) : Fin 1 → Nat :=
  let c1_i32_866 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1444 : BitVec 32 := Scalar.subi c1_i32_866 v9
  ![v1444.toNat]
def k0_off2440 (i : grid0.Coords) : Fin 3 → Nat :=
  let c1_i32_866 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1444 : BitVec 32 := Scalar.subi c1_i32_866 v9
  let arg1 : BitVec 32 := BitVec.ofNat 32 (i 1).val
  let c2_i32_863 : BitVec 32 := 2#32
  let v1440 : BitVec 32 := Scalar.muli arg1 c2_i32_863
  let c0_i32_864 : BitVec 32 := 0#32
  let v1441 : BitVec 32 := Scalar.addi v1440 c0_i32_864
  let c256_i32_865 : BitVec 32 := 256#32
  let v1442 : BitVec 32 := Scalar.muli v1441 c256_i32_865
  let c92_i32 : BitVec 32 := 92#32
  let v1443 : BitVec 32 := Scalar.addi v1442 c92_i32
  let c8_i32_869 : BitVec 32 := 8#32
  let v1448 : BitVec 32 := Scalar.muli v1443 c8_i32_869
  let v1449 : BitVec 32 := v1448
  let c0_i32_870 : BitVec 32 := 0#32
  ![v1444.toNat, v1449.toNat, 0]
def k0_off2441 (v1446 : BitVec 32) : Fin 2 → Nat :=
  let v1447 : BitVec 32 := v1446
  let c0_i32_871 : BitVec 32 := 0#32
  ![v1447.toNat, 0]

def k0_chk606 (i : grid0.Coords) (v1446 : BitVec 32) : Prop :=
  (∀ (k0_h3 : k0_cond3 i = 1#1), 8 ∣ (k0_mult1211 v1446).toNat) ∧
  (∀ (k0_h3 : k0_cond3 i = 1#1), ∀ a, (k0_off2441 v1446) a + S8x128.size a ≤ S131072x128.size a)
theorem k0_mult1211_dvd : ∀ (i : grid0.Coords) (v1446 : BitVec 32) (k0_hw606 : k0_chk606 i v1446), ∀ (k0_h3 : k0_cond3 i = 1#1), 8 ∣ (k0_mult1211 v1446).toNat := fun i v1446 k0_hw606 k0_h3 => k0_hw606.1 k0_h3
theorem k0_off2441_inb : ∀ (i : grid0.Coords) (v1446 : BitVec 32) (k0_hw606 : k0_chk606 i v1446), ∀ (k0_h3 : k0_cond3 i = 1#1), ∀ a, (k0_off2441 v1446) a + S8x128.size a ≤ S131072x128.size a := fun i v1446 k0_hw606 k0_h3 => k0_hw606.2 k0_h3

def k0_off2442 (i : grid0.Coords) : Fin 3 → Nat :=
  let c0_876 : Index := 0#32
  let c0_877 : Index := 0#32
  let arg1 : BitVec 32 := BitVec.ofNat 32 (i 1).val
  let c2_i32_872 : BitVec 32 := 2#32
  let v1455 : BitVec 32 := Scalar.muli arg1 c2_i32_872
  let c0_i32_873 : BitVec 32 := 0#32
  let v1456 : BitVec 32 := Scalar.addi v1455 c0_i32_873
  let c256_i32_874 : BitVec 32 := 256#32
  let v1457 : BitVec 32 := Scalar.muli v1456 c256_i32_874
  let c93_i32 : BitVec 32 := 93#32
  let v1458 : BitVec 32 := Scalar.addi v1457 c93_i32
  let v1460 : Index := Scalar.indexCast v1458
  ![0, 0, v1460.toNat]
def k0_mult1213 (v1461 : BitVec 32) : BitVec 32 :=
  v1461

def k0_mult1214 (i : grid0.Coords) : BitVec 32 :=
  let arg1 : BitVec 32 := BitVec.ofNat 32 (i 1).val
  let c2_i32_872 : BitVec 32 := 2#32
  let v1455 : BitVec 32 := Scalar.muli arg1 c2_i32_872
  let c0_i32_873 : BitVec 32 := 0#32
  let v1456 : BitVec 32 := Scalar.addi v1455 c0_i32_873
  let c256_i32_874 : BitVec 32 := 256#32
  let v1457 : BitVec 32 := Scalar.muli v1456 c256_i32_874
  let c93_i32 : BitVec 32 := 93#32
  let v1458 : BitVec 32 := Scalar.addi v1457 c93_i32
  let c8_i32_878 : BitVec 32 := 8#32
  let v1463 : BitVec 32 := Scalar.muli v1458 c8_i32_878
  v1463
def k0_off2443 (i : grid0.Coords) : Fin 1 → Nat :=
  let c1_i32_875 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1459 : BitVec 32 := Scalar.subi c1_i32_875 v9
  ![v1459.toNat]
def k0_off2444 (i : grid0.Coords) : Fin 3 → Nat :=
  let c1_i32_875 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1459 : BitVec 32 := Scalar.subi c1_i32_875 v9
  let arg1 : BitVec 32 := BitVec.ofNat 32 (i 1).val
  let c2_i32_872 : BitVec 32 := 2#32
  let v1455 : BitVec 32 := Scalar.muli arg1 c2_i32_872
  let c0_i32_873 : BitVec 32 := 0#32
  let v1456 : BitVec 32 := Scalar.addi v1455 c0_i32_873
  let c256_i32_874 : BitVec 32 := 256#32
  let v1457 : BitVec 32 := Scalar.muli v1456 c256_i32_874
  let c93_i32 : BitVec 32 := 93#32
  let v1458 : BitVec 32 := Scalar.addi v1457 c93_i32
  let c8_i32_878 : BitVec 32 := 8#32
  let v1463 : BitVec 32 := Scalar.muli v1458 c8_i32_878
  let v1464 : BitVec 32 := v1463
  let c0_i32_879 : BitVec 32 := 0#32
  ![v1459.toNat, v1464.toNat, 0]
def k0_off2445 (v1461 : BitVec 32) : Fin 2 → Nat :=
  let v1462 : BitVec 32 := v1461
  let c0_i32_880 : BitVec 32 := 0#32
  ![v1462.toNat, 0]

def k0_chk607 (i : grid0.Coords) (v1461 : BitVec 32) : Prop :=
  (∀ (k0_h3 : k0_cond3 i = 1#1), 8 ∣ (k0_mult1213 v1461).toNat) ∧
  (∀ (k0_h3 : k0_cond3 i = 1#1), ∀ a, (k0_off2445 v1461) a + S8x128.size a ≤ S131072x128.size a)
theorem k0_mult1213_dvd : ∀ (i : grid0.Coords) (v1461 : BitVec 32) (k0_hw607 : k0_chk607 i v1461), ∀ (k0_h3 : k0_cond3 i = 1#1), 8 ∣ (k0_mult1213 v1461).toNat := fun i v1461 k0_hw607 k0_h3 => k0_hw607.1 k0_h3
theorem k0_off2445_inb : ∀ (i : grid0.Coords) (v1461 : BitVec 32) (k0_hw607 : k0_chk607 i v1461), ∀ (k0_h3 : k0_cond3 i = 1#1), ∀ a, (k0_off2445 v1461) a + S8x128.size a ≤ S131072x128.size a := fun i v1461 k0_hw607 k0_h3 => k0_hw607.2 k0_h3

def k0_off2446 (i : grid0.Coords) : Fin 3 → Nat :=
  let c0_885 : Index := 0#32
  let c0_886 : Index := 0#32
  let arg1 : BitVec 32 := BitVec.ofNat 32 (i 1).val
  let c2_i32_881 : BitVec 32 := 2#32
  let v1470 : BitVec 32 := Scalar.muli arg1 c2_i32_881
  let c0_i32_882 : BitVec 32 := 0#32
  let v1471 : BitVec 32 := Scalar.addi v1470 c0_i32_882
  let c256_i32_883 : BitVec 32 := 256#32
  let v1472 : BitVec 32 := Scalar.muli v1471 c256_i32_883
  let c94_i32 : BitVec 32 := 94#32
  let v1473 : BitVec 32 := Scalar.addi v1472 c94_i32
  let v1475 : Index := Scalar.indexCast v1473
  ![0, 0, v1475.toNat]
def k0_mult1215 (v1476 : BitVec 32) : BitVec 32 :=
  v1476

def k0_mult1216 (i : grid0.Coords) : BitVec 32 :=
  let arg1 : BitVec 32 := BitVec.ofNat 32 (i 1).val
  let c2_i32_881 : BitVec 32 := 2#32
  let v1470 : BitVec 32 := Scalar.muli arg1 c2_i32_881
  let c0_i32_882 : BitVec 32 := 0#32
  let v1471 : BitVec 32 := Scalar.addi v1470 c0_i32_882
  let c256_i32_883 : BitVec 32 := 256#32
  let v1472 : BitVec 32 := Scalar.muli v1471 c256_i32_883
  let c94_i32 : BitVec 32 := 94#32
  let v1473 : BitVec 32 := Scalar.addi v1472 c94_i32
  let c8_i32_887 : BitVec 32 := 8#32
  let v1478 : BitVec 32 := Scalar.muli v1473 c8_i32_887
  v1478
def k0_off2447 (i : grid0.Coords) : Fin 1 → Nat :=
  let c1_i32_884 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1474 : BitVec 32 := Scalar.subi c1_i32_884 v9
  ![v1474.toNat]
def k0_off2448 (i : grid0.Coords) : Fin 3 → Nat :=
  let c1_i32_884 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1474 : BitVec 32 := Scalar.subi c1_i32_884 v9
  let arg1 : BitVec 32 := BitVec.ofNat 32 (i 1).val
  let c2_i32_881 : BitVec 32 := 2#32
  let v1470 : BitVec 32 := Scalar.muli arg1 c2_i32_881
  let c0_i32_882 : BitVec 32 := 0#32
  let v1471 : BitVec 32 := Scalar.addi v1470 c0_i32_882
  let c256_i32_883 : BitVec 32 := 256#32
  let v1472 : BitVec 32 := Scalar.muli v1471 c256_i32_883
  let c94_i32 : BitVec 32 := 94#32
  let v1473 : BitVec 32 := Scalar.addi v1472 c94_i32
  let c8_i32_887 : BitVec 32 := 8#32
  let v1478 : BitVec 32 := Scalar.muli v1473 c8_i32_887
  let v1479 : BitVec 32 := v1478
  let c0_i32_888 : BitVec 32 := 0#32
  ![v1474.toNat, v1479.toNat, 0]
def k0_off2449 (v1476 : BitVec 32) : Fin 2 → Nat :=
  let v1477 : BitVec 32 := v1476
  let c0_i32_889 : BitVec 32 := 0#32
  ![v1477.toNat, 0]

def k0_chk608 (i : grid0.Coords) (v1476 : BitVec 32) : Prop :=
  (∀ (k0_h3 : k0_cond3 i = 1#1), 8 ∣ (k0_mult1215 v1476).toNat) ∧
  (∀ (k0_h3 : k0_cond3 i = 1#1), ∀ a, (k0_off2449 v1476) a + S8x128.size a ≤ S131072x128.size a)
theorem k0_mult1215_dvd : ∀ (i : grid0.Coords) (v1476 : BitVec 32) (k0_hw608 : k0_chk608 i v1476), ∀ (k0_h3 : k0_cond3 i = 1#1), 8 ∣ (k0_mult1215 v1476).toNat := fun i v1476 k0_hw608 k0_h3 => k0_hw608.1 k0_h3
theorem k0_off2449_inb : ∀ (i : grid0.Coords) (v1476 : BitVec 32) (k0_hw608 : k0_chk608 i v1476), ∀ (k0_h3 : k0_cond3 i = 1#1), ∀ a, (k0_off2449 v1476) a + S8x128.size a ≤ S131072x128.size a := fun i v1476 k0_hw608 k0_h3 => k0_hw608.2 k0_h3

def k0_off2450 (i : grid0.Coords) : Fin 3 → Nat :=
  let c0_894 : Index := 0#32
  let c0_895 : Index := 0#32
  let arg1 : BitVec 32 := BitVec.ofNat 32 (i 1).val
  let c2_i32_890 : BitVec 32 := 2#32
  let v1485 : BitVec 32 := Scalar.muli arg1 c2_i32_890
  let c0_i32_891 : BitVec 32 := 0#32
  let v1486 : BitVec 32 := Scalar.addi v1485 c0_i32_891
  let c256_i32_892 : BitVec 32 := 256#32
  let v1487 : BitVec 32 := Scalar.muli v1486 c256_i32_892
  let c95_i32 : BitVec 32 := 95#32
  let v1488 : BitVec 32 := Scalar.addi v1487 c95_i32
  let v1490 : Index := Scalar.indexCast v1488
  ![0, 0, v1490.toNat]
def k0_mult1217 (v1491 : BitVec 32) : BitVec 32 :=
  v1491

def k0_mult1218 (i : grid0.Coords) : BitVec 32 :=
  let arg1 : BitVec 32 := BitVec.ofNat 32 (i 1).val
  let c2_i32_890 : BitVec 32 := 2#32
  let v1485 : BitVec 32 := Scalar.muli arg1 c2_i32_890
  let c0_i32_891 : BitVec 32 := 0#32
  let v1486 : BitVec 32 := Scalar.addi v1485 c0_i32_891
  let c256_i32_892 : BitVec 32 := 256#32
  let v1487 : BitVec 32 := Scalar.muli v1486 c256_i32_892
  let c95_i32 : BitVec 32 := 95#32
  let v1488 : BitVec 32 := Scalar.addi v1487 c95_i32
  let c8_i32_896 : BitVec 32 := 8#32
  let v1493 : BitVec 32 := Scalar.muli v1488 c8_i32_896
  v1493
def k0_off2451 (i : grid0.Coords) : Fin 1 → Nat :=
  let c1_i32_893 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1489 : BitVec 32 := Scalar.subi c1_i32_893 v9
  ![v1489.toNat]
def k0_off2452 (i : grid0.Coords) : Fin 3 → Nat :=
  let c1_i32_893 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1489 : BitVec 32 := Scalar.subi c1_i32_893 v9
  let arg1 : BitVec 32 := BitVec.ofNat 32 (i 1).val
  let c2_i32_890 : BitVec 32 := 2#32
  let v1485 : BitVec 32 := Scalar.muli arg1 c2_i32_890
  let c0_i32_891 : BitVec 32 := 0#32
  let v1486 : BitVec 32 := Scalar.addi v1485 c0_i32_891
  let c256_i32_892 : BitVec 32 := 256#32
  let v1487 : BitVec 32 := Scalar.muli v1486 c256_i32_892
  let c95_i32 : BitVec 32 := 95#32
  let v1488 : BitVec 32 := Scalar.addi v1487 c95_i32
  let c8_i32_896 : BitVec 32 := 8#32
  let v1493 : BitVec 32 := Scalar.muli v1488 c8_i32_896
  let v1494 : BitVec 32 := v1493
  let c0_i32_897 : BitVec 32 := 0#32
  ![v1489.toNat, v1494.toNat, 0]
def k0_off2453 (v1491 : BitVec 32) : Fin 2 → Nat :=
  let v1492 : BitVec 32 := v1491
  let c0_i32_898 : BitVec 32 := 0#32
  ![v1492.toNat, 0]

def k0_chk609 (i : grid0.Coords) (v1491 : BitVec 32) : Prop :=
  (∀ (k0_h3 : k0_cond3 i = 1#1), 8 ∣ (k0_mult1217 v1491).toNat) ∧
  (∀ (k0_h3 : k0_cond3 i = 1#1), ∀ a, (k0_off2453 v1491) a + S8x128.size a ≤ S131072x128.size a)
theorem k0_mult1217_dvd : ∀ (i : grid0.Coords) (v1491 : BitVec 32) (k0_hw609 : k0_chk609 i v1491), ∀ (k0_h3 : k0_cond3 i = 1#1), 8 ∣ (k0_mult1217 v1491).toNat := fun i v1491 k0_hw609 k0_h3 => k0_hw609.1 k0_h3
theorem k0_off2453_inb : ∀ (i : grid0.Coords) (v1491 : BitVec 32) (k0_hw609 : k0_chk609 i v1491), ∀ (k0_h3 : k0_cond3 i = 1#1), ∀ a, (k0_off2453 v1491) a + S8x128.size a ≤ S131072x128.size a := fun i v1491 k0_hw609 k0_h3 => k0_hw609.2 k0_h3

def k0_off2454 (i : grid0.Coords) : Fin 3 → Nat :=
  let c0_903 : Index := 0#32
  let c0_904 : Index := 0#32
  let arg1 : BitVec 32 := BitVec.ofNat 32 (i 1).val
  let c2_i32_899 : BitVec 32 := 2#32
  let v1500 : BitVec 32 := Scalar.muli arg1 c2_i32_899
  let c0_i32_900 : BitVec 32 := 0#32
  let v1501 : BitVec 32 := Scalar.addi v1500 c0_i32_900
  let c256_i32_901 : BitVec 32 := 256#32
  let v1502 : BitVec 32 := Scalar.muli v1501 c256_i32_901
  let c96_i32 : BitVec 32 := 96#32
  let v1503 : BitVec 32 := Scalar.addi v1502 c96_i32
  let v1505 : Index := Scalar.indexCast v1503
  ![0, 0, v1505.toNat]
def k0_mult1219 (v1506 : BitVec 32) : BitVec 32 :=
  v1506

def k0_mult1220 (i : grid0.Coords) : BitVec 32 :=
  let arg1 : BitVec 32 := BitVec.ofNat 32 (i 1).val
  let c2_i32_899 : BitVec 32 := 2#32
  let v1500 : BitVec 32 := Scalar.muli arg1 c2_i32_899
  let c0_i32_900 : BitVec 32 := 0#32
  let v1501 : BitVec 32 := Scalar.addi v1500 c0_i32_900
  let c256_i32_901 : BitVec 32 := 256#32
  let v1502 : BitVec 32 := Scalar.muli v1501 c256_i32_901
  let c96_i32 : BitVec 32 := 96#32
  let v1503 : BitVec 32 := Scalar.addi v1502 c96_i32
  let c8_i32_905 : BitVec 32 := 8#32
  let v1508 : BitVec 32 := Scalar.muli v1503 c8_i32_905
  v1508
def k0_off2455 (i : grid0.Coords) : Fin 1 → Nat :=
  let c1_i32_902 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1504 : BitVec 32 := Scalar.subi c1_i32_902 v9
  ![v1504.toNat]
def k0_off2456 (i : grid0.Coords) : Fin 3 → Nat :=
  let c1_i32_902 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1504 : BitVec 32 := Scalar.subi c1_i32_902 v9
  let arg1 : BitVec 32 := BitVec.ofNat 32 (i 1).val
  let c2_i32_899 : BitVec 32 := 2#32
  let v1500 : BitVec 32 := Scalar.muli arg1 c2_i32_899
  let c0_i32_900 : BitVec 32 := 0#32
  let v1501 : BitVec 32 := Scalar.addi v1500 c0_i32_900
  let c256_i32_901 : BitVec 32 := 256#32
  let v1502 : BitVec 32 := Scalar.muli v1501 c256_i32_901
  let c96_i32 : BitVec 32 := 96#32
  let v1503 : BitVec 32 := Scalar.addi v1502 c96_i32
  let c8_i32_905 : BitVec 32 := 8#32
  let v1508 : BitVec 32 := Scalar.muli v1503 c8_i32_905
  let v1509 : BitVec 32 := v1508
  let c0_i32_906 : BitVec 32 := 0#32
  ![v1504.toNat, v1509.toNat, 0]
def k0_off2457 (v1506 : BitVec 32) : Fin 2 → Nat :=
  let v1507 : BitVec 32 := v1506
  let c0_i32_907 : BitVec 32 := 0#32
  ![v1507.toNat, 0]

def k0_chk610 (i : grid0.Coords) (v1506 : BitVec 32) : Prop :=
  (∀ (k0_h3 : k0_cond3 i = 1#1), 8 ∣ (k0_mult1219 v1506).toNat) ∧
  (∀ (k0_h3 : k0_cond3 i = 1#1), ∀ a, (k0_off2457 v1506) a + S8x128.size a ≤ S131072x128.size a)
theorem k0_mult1219_dvd : ∀ (i : grid0.Coords) (v1506 : BitVec 32) (k0_hw610 : k0_chk610 i v1506), ∀ (k0_h3 : k0_cond3 i = 1#1), 8 ∣ (k0_mult1219 v1506).toNat := fun i v1506 k0_hw610 k0_h3 => k0_hw610.1 k0_h3
theorem k0_off2457_inb : ∀ (i : grid0.Coords) (v1506 : BitVec 32) (k0_hw610 : k0_chk610 i v1506), ∀ (k0_h3 : k0_cond3 i = 1#1), ∀ a, (k0_off2457 v1506) a + S8x128.size a ≤ S131072x128.size a := fun i v1506 k0_hw610 k0_h3 => k0_hw610.2 k0_h3

def k0_off2458 (i : grid0.Coords) : Fin 3 → Nat :=
  let c0_912 : Index := 0#32
  let c0_913 : Index := 0#32
  let arg1 : BitVec 32 := BitVec.ofNat 32 (i 1).val
  let c2_i32_908 : BitVec 32 := 2#32
  let v1515 : BitVec 32 := Scalar.muli arg1 c2_i32_908
  let c0_i32_909 : BitVec 32 := 0#32
  let v1516 : BitVec 32 := Scalar.addi v1515 c0_i32_909
  let c256_i32_910 : BitVec 32 := 256#32
  let v1517 : BitVec 32 := Scalar.muli v1516 c256_i32_910
  let c97_i32 : BitVec 32 := 97#32
  let v1518 : BitVec 32 := Scalar.addi v1517 c97_i32
  let v1520 : Index := Scalar.indexCast v1518
  ![0, 0, v1520.toNat]
def k0_mult1221 (v1521 : BitVec 32) : BitVec 32 :=
  v1521

def k0_mult1222 (i : grid0.Coords) : BitVec 32 :=
  let arg1 : BitVec 32 := BitVec.ofNat 32 (i 1).val
  let c2_i32_908 : BitVec 32 := 2#32
  let v1515 : BitVec 32 := Scalar.muli arg1 c2_i32_908
  let c0_i32_909 : BitVec 32 := 0#32
  let v1516 : BitVec 32 := Scalar.addi v1515 c0_i32_909
  let c256_i32_910 : BitVec 32 := 256#32
  let v1517 : BitVec 32 := Scalar.muli v1516 c256_i32_910
  let c97_i32 : BitVec 32 := 97#32
  let v1518 : BitVec 32 := Scalar.addi v1517 c97_i32
  let c8_i32_914 : BitVec 32 := 8#32
  let v1523 : BitVec 32 := Scalar.muli v1518 c8_i32_914
  v1523
def k0_off2459 (i : grid0.Coords) : Fin 1 → Nat :=
  let c1_i32_911 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1519 : BitVec 32 := Scalar.subi c1_i32_911 v9
  ![v1519.toNat]
def k0_off2460 (i : grid0.Coords) : Fin 3 → Nat :=
  let c1_i32_911 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1519 : BitVec 32 := Scalar.subi c1_i32_911 v9
  let arg1 : BitVec 32 := BitVec.ofNat 32 (i 1).val
  let c2_i32_908 : BitVec 32 := 2#32
  let v1515 : BitVec 32 := Scalar.muli arg1 c2_i32_908
  let c0_i32_909 : BitVec 32 := 0#32
  let v1516 : BitVec 32 := Scalar.addi v1515 c0_i32_909
  let c256_i32_910 : BitVec 32 := 256#32
  let v1517 : BitVec 32 := Scalar.muli v1516 c256_i32_910
  let c97_i32 : BitVec 32 := 97#32
  let v1518 : BitVec 32 := Scalar.addi v1517 c97_i32
  let c8_i32_914 : BitVec 32 := 8#32
  let v1523 : BitVec 32 := Scalar.muli v1518 c8_i32_914
  let v1524 : BitVec 32 := v1523
  let c0_i32_915 : BitVec 32 := 0#32
  ![v1519.toNat, v1524.toNat, 0]
def k0_off2461 (v1521 : BitVec 32) : Fin 2 → Nat :=
  let v1522 : BitVec 32 := v1521
  let c0_i32_916 : BitVec 32 := 0#32
  ![v1522.toNat, 0]

def k0_chk611 (i : grid0.Coords) (v1521 : BitVec 32) : Prop :=
  (∀ (k0_h3 : k0_cond3 i = 1#1), 8 ∣ (k0_mult1221 v1521).toNat) ∧
  (∀ (k0_h3 : k0_cond3 i = 1#1), ∀ a, (k0_off2461 v1521) a + S8x128.size a ≤ S131072x128.size a)
theorem k0_mult1221_dvd : ∀ (i : grid0.Coords) (v1521 : BitVec 32) (k0_hw611 : k0_chk611 i v1521), ∀ (k0_h3 : k0_cond3 i = 1#1), 8 ∣ (k0_mult1221 v1521).toNat := fun i v1521 k0_hw611 k0_h3 => k0_hw611.1 k0_h3
theorem k0_off2461_inb : ∀ (i : grid0.Coords) (v1521 : BitVec 32) (k0_hw611 : k0_chk611 i v1521), ∀ (k0_h3 : k0_cond3 i = 1#1), ∀ a, (k0_off2461 v1521) a + S8x128.size a ≤ S131072x128.size a := fun i v1521 k0_hw611 k0_h3 => k0_hw611.2 k0_h3

def k0_off2462 (i : grid0.Coords) : Fin 3 → Nat :=
  let c0_921 : Index := 0#32
  let c0_922 : Index := 0#32
  let arg1 : BitVec 32 := BitVec.ofNat 32 (i 1).val
  let c2_i32_917 : BitVec 32 := 2#32
  let v1530 : BitVec 32 := Scalar.muli arg1 c2_i32_917
  let c0_i32_918 : BitVec 32 := 0#32
  let v1531 : BitVec 32 := Scalar.addi v1530 c0_i32_918
  let c256_i32_919 : BitVec 32 := 256#32
  let v1532 : BitVec 32 := Scalar.muli v1531 c256_i32_919
  let c98_i32 : BitVec 32 := 98#32
  let v1533 : BitVec 32 := Scalar.addi v1532 c98_i32
  let v1535 : Index := Scalar.indexCast v1533
  ![0, 0, v1535.toNat]
def k0_mult1223 (v1536 : BitVec 32) : BitVec 32 :=
  v1536

def k0_mult1224 (i : grid0.Coords) : BitVec 32 :=
  let arg1 : BitVec 32 := BitVec.ofNat 32 (i 1).val
  let c2_i32_917 : BitVec 32 := 2#32
  let v1530 : BitVec 32 := Scalar.muli arg1 c2_i32_917
  let c0_i32_918 : BitVec 32 := 0#32
  let v1531 : BitVec 32 := Scalar.addi v1530 c0_i32_918
  let c256_i32_919 : BitVec 32 := 256#32
  let v1532 : BitVec 32 := Scalar.muli v1531 c256_i32_919
  let c98_i32 : BitVec 32 := 98#32
  let v1533 : BitVec 32 := Scalar.addi v1532 c98_i32
  let c8_i32_923 : BitVec 32 := 8#32
  let v1538 : BitVec 32 := Scalar.muli v1533 c8_i32_923
  v1538
def k0_off2463 (i : grid0.Coords) : Fin 1 → Nat :=
  let c1_i32_920 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1534 : BitVec 32 := Scalar.subi c1_i32_920 v9
  ![v1534.toNat]
def k0_off2464 (i : grid0.Coords) : Fin 3 → Nat :=
  let c1_i32_920 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1534 : BitVec 32 := Scalar.subi c1_i32_920 v9
  let arg1 : BitVec 32 := BitVec.ofNat 32 (i 1).val
  let c2_i32_917 : BitVec 32 := 2#32
  let v1530 : BitVec 32 := Scalar.muli arg1 c2_i32_917
  let c0_i32_918 : BitVec 32 := 0#32
  let v1531 : BitVec 32 := Scalar.addi v1530 c0_i32_918
  let c256_i32_919 : BitVec 32 := 256#32
  let v1532 : BitVec 32 := Scalar.muli v1531 c256_i32_919
  let c98_i32 : BitVec 32 := 98#32
  let v1533 : BitVec 32 := Scalar.addi v1532 c98_i32
  let c8_i32_923 : BitVec 32 := 8#32
  let v1538 : BitVec 32 := Scalar.muli v1533 c8_i32_923
  let v1539 : BitVec 32 := v1538
  let c0_i32_924 : BitVec 32 := 0#32
  ![v1534.toNat, v1539.toNat, 0]
def k0_off2465 (v1536 : BitVec 32) : Fin 2 → Nat :=
  let v1537 : BitVec 32 := v1536
  let c0_i32_925 : BitVec 32 := 0#32
  ![v1537.toNat, 0]

def k0_chk612 (i : grid0.Coords) (v1536 : BitVec 32) : Prop :=
  (∀ (k0_h3 : k0_cond3 i = 1#1), 8 ∣ (k0_mult1223 v1536).toNat) ∧
  (∀ (k0_h3 : k0_cond3 i = 1#1), ∀ a, (k0_off2465 v1536) a + S8x128.size a ≤ S131072x128.size a)
theorem k0_mult1223_dvd : ∀ (i : grid0.Coords) (v1536 : BitVec 32) (k0_hw612 : k0_chk612 i v1536), ∀ (k0_h3 : k0_cond3 i = 1#1), 8 ∣ (k0_mult1223 v1536).toNat := fun i v1536 k0_hw612 k0_h3 => k0_hw612.1 k0_h3
theorem k0_off2465_inb : ∀ (i : grid0.Coords) (v1536 : BitVec 32) (k0_hw612 : k0_chk612 i v1536), ∀ (k0_h3 : k0_cond3 i = 1#1), ∀ a, (k0_off2465 v1536) a + S8x128.size a ≤ S131072x128.size a := fun i v1536 k0_hw612 k0_h3 => k0_hw612.2 k0_h3

def k0_off2466 (i : grid0.Coords) : Fin 3 → Nat :=
  let c0_930 : Index := 0#32
  let c0_931 : Index := 0#32
  let arg1 : BitVec 32 := BitVec.ofNat 32 (i 1).val
  let c2_i32_926 : BitVec 32 := 2#32
  let v1545 : BitVec 32 := Scalar.muli arg1 c2_i32_926
  let c0_i32_927 : BitVec 32 := 0#32
  let v1546 : BitVec 32 := Scalar.addi v1545 c0_i32_927
  let c256_i32_928 : BitVec 32 := 256#32
  let v1547 : BitVec 32 := Scalar.muli v1546 c256_i32_928
  let c99_i32 : BitVec 32 := 99#32
  let v1548 : BitVec 32 := Scalar.addi v1547 c99_i32
  let v1550 : Index := Scalar.indexCast v1548
  ![0, 0, v1550.toNat]
def k0_mult1225 (v1551 : BitVec 32) : BitVec 32 :=
  v1551

def k0_mult1226 (i : grid0.Coords) : BitVec 32 :=
  let arg1 : BitVec 32 := BitVec.ofNat 32 (i 1).val
  let c2_i32_926 : BitVec 32 := 2#32
  let v1545 : BitVec 32 := Scalar.muli arg1 c2_i32_926
  let c0_i32_927 : BitVec 32 := 0#32
  let v1546 : BitVec 32 := Scalar.addi v1545 c0_i32_927
  let c256_i32_928 : BitVec 32 := 256#32
  let v1547 : BitVec 32 := Scalar.muli v1546 c256_i32_928
  let c99_i32 : BitVec 32 := 99#32
  let v1548 : BitVec 32 := Scalar.addi v1547 c99_i32
  let c8_i32_932 : BitVec 32 := 8#32
  let v1553 : BitVec 32 := Scalar.muli v1548 c8_i32_932
  v1553
def k0_off2467 (i : grid0.Coords) : Fin 1 → Nat :=
  let c1_i32_929 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1549 : BitVec 32 := Scalar.subi c1_i32_929 v9
  ![v1549.toNat]
def k0_off2468 (i : grid0.Coords) : Fin 3 → Nat :=
  let c1_i32_929 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1549 : BitVec 32 := Scalar.subi c1_i32_929 v9
  let arg1 : BitVec 32 := BitVec.ofNat 32 (i 1).val
  let c2_i32_926 : BitVec 32 := 2#32
  let v1545 : BitVec 32 := Scalar.muli arg1 c2_i32_926
  let c0_i32_927 : BitVec 32 := 0#32
  let v1546 : BitVec 32 := Scalar.addi v1545 c0_i32_927
  let c256_i32_928 : BitVec 32 := 256#32
  let v1547 : BitVec 32 := Scalar.muli v1546 c256_i32_928
  let c99_i32 : BitVec 32 := 99#32
  let v1548 : BitVec 32 := Scalar.addi v1547 c99_i32
  let c8_i32_932 : BitVec 32 := 8#32
  let v1553 : BitVec 32 := Scalar.muli v1548 c8_i32_932
  let v1554 : BitVec 32 := v1553
  let c0_i32_933 : BitVec 32 := 0#32
  ![v1549.toNat, v1554.toNat, 0]
def k0_off2469 (v1551 : BitVec 32) : Fin 2 → Nat :=
  let v1552 : BitVec 32 := v1551
  let c0_i32_934 : BitVec 32 := 0#32
  ![v1552.toNat, 0]

def k0_chk613 (i : grid0.Coords) (v1551 : BitVec 32) : Prop :=
  (∀ (k0_h3 : k0_cond3 i = 1#1), 8 ∣ (k0_mult1225 v1551).toNat) ∧
  (∀ (k0_h3 : k0_cond3 i = 1#1), ∀ a, (k0_off2469 v1551) a + S8x128.size a ≤ S131072x128.size a)
theorem k0_mult1225_dvd : ∀ (i : grid0.Coords) (v1551 : BitVec 32) (k0_hw613 : k0_chk613 i v1551), ∀ (k0_h3 : k0_cond3 i = 1#1), 8 ∣ (k0_mult1225 v1551).toNat := fun i v1551 k0_hw613 k0_h3 => k0_hw613.1 k0_h3
theorem k0_off2469_inb : ∀ (i : grid0.Coords) (v1551 : BitVec 32) (k0_hw613 : k0_chk613 i v1551), ∀ (k0_h3 : k0_cond3 i = 1#1), ∀ a, (k0_off2469 v1551) a + S8x128.size a ≤ S131072x128.size a := fun i v1551 k0_hw613 k0_h3 => k0_hw613.2 k0_h3

def k0_off2470 (i : grid0.Coords) : Fin 3 → Nat :=
  let c0_939 : Index := 0#32
  let c0_940 : Index := 0#32
  let arg1 : BitVec 32 := BitVec.ofNat 32 (i 1).val
  let c2_i32_935 : BitVec 32 := 2#32
  let v1560 : BitVec 32 := Scalar.muli arg1 c2_i32_935
  let c0_i32_936 : BitVec 32 := 0#32
  let v1561 : BitVec 32 := Scalar.addi v1560 c0_i32_936
  let c256_i32_937 : BitVec 32 := 256#32
  let v1562 : BitVec 32 := Scalar.muli v1561 c256_i32_937
  let c100_i32 : BitVec 32 := 100#32
  let v1563 : BitVec 32 := Scalar.addi v1562 c100_i32
  let v1565 : Index := Scalar.indexCast v1563
  ![0, 0, v1565.toNat]
def k0_mult1227 (v1566 : BitVec 32) : BitVec 32 :=
  v1566

def k0_mult1228 (i : grid0.Coords) : BitVec 32 :=
  let arg1 : BitVec 32 := BitVec.ofNat 32 (i 1).val
  let c2_i32_935 : BitVec 32 := 2#32
  let v1560 : BitVec 32 := Scalar.muli arg1 c2_i32_935
  let c0_i32_936 : BitVec 32 := 0#32
  let v1561 : BitVec 32 := Scalar.addi v1560 c0_i32_936
  let c256_i32_937 : BitVec 32 := 256#32
  let v1562 : BitVec 32 := Scalar.muli v1561 c256_i32_937
  let c100_i32 : BitVec 32 := 100#32
  let v1563 : BitVec 32 := Scalar.addi v1562 c100_i32
  let c8_i32_941 : BitVec 32 := 8#32
  let v1568 : BitVec 32 := Scalar.muli v1563 c8_i32_941
  v1568
def k0_off2471 (i : grid0.Coords) : Fin 1 → Nat :=
  let c1_i32_938 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1564 : BitVec 32 := Scalar.subi c1_i32_938 v9
  ![v1564.toNat]
def k0_off2472 (i : grid0.Coords) : Fin 3 → Nat :=
  let c1_i32_938 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1564 : BitVec 32 := Scalar.subi c1_i32_938 v9
  let arg1 : BitVec 32 := BitVec.ofNat 32 (i 1).val
  let c2_i32_935 : BitVec 32 := 2#32
  let v1560 : BitVec 32 := Scalar.muli arg1 c2_i32_935
  let c0_i32_936 : BitVec 32 := 0#32
  let v1561 : BitVec 32 := Scalar.addi v1560 c0_i32_936
  let c256_i32_937 : BitVec 32 := 256#32
  let v1562 : BitVec 32 := Scalar.muli v1561 c256_i32_937
  let c100_i32 : BitVec 32 := 100#32
  let v1563 : BitVec 32 := Scalar.addi v1562 c100_i32
  let c8_i32_941 : BitVec 32 := 8#32
  let v1568 : BitVec 32 := Scalar.muli v1563 c8_i32_941
  let v1569 : BitVec 32 := v1568
  let c0_i32_942 : BitVec 32 := 0#32
  ![v1564.toNat, v1569.toNat, 0]
def k0_off2473 (v1566 : BitVec 32) : Fin 2 → Nat :=
  let v1567 : BitVec 32 := v1566
  let c0_i32_943 : BitVec 32 := 0#32
  ![v1567.toNat, 0]

def k0_chk614 (i : grid0.Coords) (v1566 : BitVec 32) : Prop :=
  (∀ (k0_h3 : k0_cond3 i = 1#1), 8 ∣ (k0_mult1227 v1566).toNat) ∧
  (∀ (k0_h3 : k0_cond3 i = 1#1), ∀ a, (k0_off2473 v1566) a + S8x128.size a ≤ S131072x128.size a)
theorem k0_mult1227_dvd : ∀ (i : grid0.Coords) (v1566 : BitVec 32) (k0_hw614 : k0_chk614 i v1566), ∀ (k0_h3 : k0_cond3 i = 1#1), 8 ∣ (k0_mult1227 v1566).toNat := fun i v1566 k0_hw614 k0_h3 => k0_hw614.1 k0_h3
theorem k0_off2473_inb : ∀ (i : grid0.Coords) (v1566 : BitVec 32) (k0_hw614 : k0_chk614 i v1566), ∀ (k0_h3 : k0_cond3 i = 1#1), ∀ a, (k0_off2473 v1566) a + S8x128.size a ≤ S131072x128.size a := fun i v1566 k0_hw614 k0_h3 => k0_hw614.2 k0_h3

def k0_off2474 (i : grid0.Coords) : Fin 3 → Nat :=
  let c0_948 : Index := 0#32
  let c0_949 : Index := 0#32
  let arg1 : BitVec 32 := BitVec.ofNat 32 (i 1).val
  let c2_i32_944 : BitVec 32 := 2#32
  let v1575 : BitVec 32 := Scalar.muli arg1 c2_i32_944
  let c0_i32_945 : BitVec 32 := 0#32
  let v1576 : BitVec 32 := Scalar.addi v1575 c0_i32_945
  let c256_i32_946 : BitVec 32 := 256#32
  let v1577 : BitVec 32 := Scalar.muli v1576 c256_i32_946
  let c101_i32 : BitVec 32 := 101#32
  let v1578 : BitVec 32 := Scalar.addi v1577 c101_i32
  let v1580 : Index := Scalar.indexCast v1578
  ![0, 0, v1580.toNat]
def k0_mult1229 (v1581 : BitVec 32) : BitVec 32 :=
  v1581

def k0_mult1230 (i : grid0.Coords) : BitVec 32 :=
  let arg1 : BitVec 32 := BitVec.ofNat 32 (i 1).val
  let c2_i32_944 : BitVec 32 := 2#32
  let v1575 : BitVec 32 := Scalar.muli arg1 c2_i32_944
  let c0_i32_945 : BitVec 32 := 0#32
  let v1576 : BitVec 32 := Scalar.addi v1575 c0_i32_945
  let c256_i32_946 : BitVec 32 := 256#32
  let v1577 : BitVec 32 := Scalar.muli v1576 c256_i32_946
  let c101_i32 : BitVec 32 := 101#32
  let v1578 : BitVec 32 := Scalar.addi v1577 c101_i32
  let c8_i32_950 : BitVec 32 := 8#32
  let v1583 : BitVec 32 := Scalar.muli v1578 c8_i32_950
  v1583
def k0_off2475 (i : grid0.Coords) : Fin 1 → Nat :=
  let c1_i32_947 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1579 : BitVec 32 := Scalar.subi c1_i32_947 v9
  ![v1579.toNat]
def k0_off2476 (i : grid0.Coords) : Fin 3 → Nat :=
  let c1_i32_947 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1579 : BitVec 32 := Scalar.subi c1_i32_947 v9
  let arg1 : BitVec 32 := BitVec.ofNat 32 (i 1).val
  let c2_i32_944 : BitVec 32 := 2#32
  let v1575 : BitVec 32 := Scalar.muli arg1 c2_i32_944
  let c0_i32_945 : BitVec 32 := 0#32
  let v1576 : BitVec 32 := Scalar.addi v1575 c0_i32_945
  let c256_i32_946 : BitVec 32 := 256#32
  let v1577 : BitVec 32 := Scalar.muli v1576 c256_i32_946
  let c101_i32 : BitVec 32 := 101#32
  let v1578 : BitVec 32 := Scalar.addi v1577 c101_i32
  let c8_i32_950 : BitVec 32 := 8#32
  let v1583 : BitVec 32 := Scalar.muli v1578 c8_i32_950
  let v1584 : BitVec 32 := v1583
  let c0_i32_951 : BitVec 32 := 0#32
  ![v1579.toNat, v1584.toNat, 0]
def k0_off2477 (v1581 : BitVec 32) : Fin 2 → Nat :=
  let v1582 : BitVec 32 := v1581
  let c0_i32_952 : BitVec 32 := 0#32
  ![v1582.toNat, 0]

def k0_chk615 (i : grid0.Coords) (v1581 : BitVec 32) : Prop :=
  (∀ (k0_h3 : k0_cond3 i = 1#1), 8 ∣ (k0_mult1229 v1581).toNat) ∧
  (∀ (k0_h3 : k0_cond3 i = 1#1), ∀ a, (k0_off2477 v1581) a + S8x128.size a ≤ S131072x128.size a)
theorem k0_mult1229_dvd : ∀ (i : grid0.Coords) (v1581 : BitVec 32) (k0_hw615 : k0_chk615 i v1581), ∀ (k0_h3 : k0_cond3 i = 1#1), 8 ∣ (k0_mult1229 v1581).toNat := fun i v1581 k0_hw615 k0_h3 => k0_hw615.1 k0_h3
theorem k0_off2477_inb : ∀ (i : grid0.Coords) (v1581 : BitVec 32) (k0_hw615 : k0_chk615 i v1581), ∀ (k0_h3 : k0_cond3 i = 1#1), ∀ a, (k0_off2477 v1581) a + S8x128.size a ≤ S131072x128.size a := fun i v1581 k0_hw615 k0_h3 => k0_hw615.2 k0_h3

def k0_off2478 (i : grid0.Coords) : Fin 3 → Nat :=
  let c0_957 : Index := 0#32
  let c0_958 : Index := 0#32
  let arg1 : BitVec 32 := BitVec.ofNat 32 (i 1).val
  let c2_i32_953 : BitVec 32 := 2#32
  let v1590 : BitVec 32 := Scalar.muli arg1 c2_i32_953
  let c0_i32_954 : BitVec 32 := 0#32
  let v1591 : BitVec 32 := Scalar.addi v1590 c0_i32_954
  let c256_i32_955 : BitVec 32 := 256#32
  let v1592 : BitVec 32 := Scalar.muli v1591 c256_i32_955
  let c102_i32 : BitVec 32 := 102#32
  let v1593 : BitVec 32 := Scalar.addi v1592 c102_i32
  let v1595 : Index := Scalar.indexCast v1593
  ![0, 0, v1595.toNat]
def k0_mult1231 (v1596 : BitVec 32) : BitVec 32 :=
  v1596

def k0_mult1232 (i : grid0.Coords) : BitVec 32 :=
  let arg1 : BitVec 32 := BitVec.ofNat 32 (i 1).val
  let c2_i32_953 : BitVec 32 := 2#32
  let v1590 : BitVec 32 := Scalar.muli arg1 c2_i32_953
  let c0_i32_954 : BitVec 32 := 0#32
  let v1591 : BitVec 32 := Scalar.addi v1590 c0_i32_954
  let c256_i32_955 : BitVec 32 := 256#32
  let v1592 : BitVec 32 := Scalar.muli v1591 c256_i32_955
  let c102_i32 : BitVec 32 := 102#32
  let v1593 : BitVec 32 := Scalar.addi v1592 c102_i32
  let c8_i32_959 : BitVec 32 := 8#32
  let v1598 : BitVec 32 := Scalar.muli v1593 c8_i32_959
  v1598
def k0_off2479 (i : grid0.Coords) : Fin 1 → Nat :=
  let c1_i32_956 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1594 : BitVec 32 := Scalar.subi c1_i32_956 v9
  ![v1594.toNat]
def k0_off2480 (i : grid0.Coords) : Fin 3 → Nat :=
  let c1_i32_956 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1594 : BitVec 32 := Scalar.subi c1_i32_956 v9
  let arg1 : BitVec 32 := BitVec.ofNat 32 (i 1).val
  let c2_i32_953 : BitVec 32 := 2#32
  let v1590 : BitVec 32 := Scalar.muli arg1 c2_i32_953
  let c0_i32_954 : BitVec 32 := 0#32
  let v1591 : BitVec 32 := Scalar.addi v1590 c0_i32_954
  let c256_i32_955 : BitVec 32 := 256#32
  let v1592 : BitVec 32 := Scalar.muli v1591 c256_i32_955
  let c102_i32 : BitVec 32 := 102#32
  let v1593 : BitVec 32 := Scalar.addi v1592 c102_i32
  let c8_i32_959 : BitVec 32 := 8#32
  let v1598 : BitVec 32 := Scalar.muli v1593 c8_i32_959
  let v1599 : BitVec 32 := v1598
  let c0_i32_960 : BitVec 32 := 0#32
  ![v1594.toNat, v1599.toNat, 0]
def k0_off2481 (v1596 : BitVec 32) : Fin 2 → Nat :=
  let v1597 : BitVec 32 := v1596
  let c0_i32_961 : BitVec 32 := 0#32
  ![v1597.toNat, 0]

def k0_chk616 (i : grid0.Coords) (v1596 : BitVec 32) : Prop :=
  (∀ (k0_h3 : k0_cond3 i = 1#1), 8 ∣ (k0_mult1231 v1596).toNat) ∧
  (∀ (k0_h3 : k0_cond3 i = 1#1), ∀ a, (k0_off2481 v1596) a + S8x128.size a ≤ S131072x128.size a)
theorem k0_mult1231_dvd : ∀ (i : grid0.Coords) (v1596 : BitVec 32) (k0_hw616 : k0_chk616 i v1596), ∀ (k0_h3 : k0_cond3 i = 1#1), 8 ∣ (k0_mult1231 v1596).toNat := fun i v1596 k0_hw616 k0_h3 => k0_hw616.1 k0_h3
theorem k0_off2481_inb : ∀ (i : grid0.Coords) (v1596 : BitVec 32) (k0_hw616 : k0_chk616 i v1596), ∀ (k0_h3 : k0_cond3 i = 1#1), ∀ a, (k0_off2481 v1596) a + S8x128.size a ≤ S131072x128.size a := fun i v1596 k0_hw616 k0_h3 => k0_hw616.2 k0_h3

def k0_off2482 (i : grid0.Coords) : Fin 3 → Nat :=
  let c0_966 : Index := 0#32
  let c0_967 : Index := 0#32
  let arg1 : BitVec 32 := BitVec.ofNat 32 (i 1).val
  let c2_i32_962 : BitVec 32 := 2#32
  let v1605 : BitVec 32 := Scalar.muli arg1 c2_i32_962
  let c0_i32_963 : BitVec 32 := 0#32
  let v1606 : BitVec 32 := Scalar.addi v1605 c0_i32_963
  let c256_i32_964 : BitVec 32 := 256#32
  let v1607 : BitVec 32 := Scalar.muli v1606 c256_i32_964
  let c103_i32 : BitVec 32 := 103#32
  let v1608 : BitVec 32 := Scalar.addi v1607 c103_i32
  let v1610 : Index := Scalar.indexCast v1608
  ![0, 0, v1610.toNat]
def k0_mult1233 (v1611 : BitVec 32) : BitVec 32 :=
  v1611

def k0_mult1234 (i : grid0.Coords) : BitVec 32 :=
  let arg1 : BitVec 32 := BitVec.ofNat 32 (i 1).val
  let c2_i32_962 : BitVec 32 := 2#32
  let v1605 : BitVec 32 := Scalar.muli arg1 c2_i32_962
  let c0_i32_963 : BitVec 32 := 0#32
  let v1606 : BitVec 32 := Scalar.addi v1605 c0_i32_963
  let c256_i32_964 : BitVec 32 := 256#32
  let v1607 : BitVec 32 := Scalar.muli v1606 c256_i32_964
  let c103_i32 : BitVec 32 := 103#32
  let v1608 : BitVec 32 := Scalar.addi v1607 c103_i32
  let c8_i32_968 : BitVec 32 := 8#32
  let v1613 : BitVec 32 := Scalar.muli v1608 c8_i32_968
  v1613
def k0_off2483 (i : grid0.Coords) : Fin 1 → Nat :=
  let c1_i32_965 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1609 : BitVec 32 := Scalar.subi c1_i32_965 v9
  ![v1609.toNat]
def k0_off2484 (i : grid0.Coords) : Fin 3 → Nat :=
  let c1_i32_965 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1609 : BitVec 32 := Scalar.subi c1_i32_965 v9
  let arg1 : BitVec 32 := BitVec.ofNat 32 (i 1).val
  let c2_i32_962 : BitVec 32 := 2#32
  let v1605 : BitVec 32 := Scalar.muli arg1 c2_i32_962
  let c0_i32_963 : BitVec 32 := 0#32
  let v1606 : BitVec 32 := Scalar.addi v1605 c0_i32_963
  let c256_i32_964 : BitVec 32 := 256#32
  let v1607 : BitVec 32 := Scalar.muli v1606 c256_i32_964
  let c103_i32 : BitVec 32 := 103#32
  let v1608 : BitVec 32 := Scalar.addi v1607 c103_i32
  let c8_i32_968 : BitVec 32 := 8#32
  let v1613 : BitVec 32 := Scalar.muli v1608 c8_i32_968
  let v1614 : BitVec 32 := v1613
  let c0_i32_969 : BitVec 32 := 0#32
  ![v1609.toNat, v1614.toNat, 0]
def k0_off2485 (v1611 : BitVec 32) : Fin 2 → Nat :=
  let v1612 : BitVec 32 := v1611
  let c0_i32_970 : BitVec 32 := 0#32
  ![v1612.toNat, 0]

def k0_chk617 (i : grid0.Coords) (v1611 : BitVec 32) : Prop :=
  (∀ (k0_h3 : k0_cond3 i = 1#1), 8 ∣ (k0_mult1233 v1611).toNat) ∧
  (∀ (k0_h3 : k0_cond3 i = 1#1), ∀ a, (k0_off2485 v1611) a + S8x128.size a ≤ S131072x128.size a)
theorem k0_mult1233_dvd : ∀ (i : grid0.Coords) (v1611 : BitVec 32) (k0_hw617 : k0_chk617 i v1611), ∀ (k0_h3 : k0_cond3 i = 1#1), 8 ∣ (k0_mult1233 v1611).toNat := fun i v1611 k0_hw617 k0_h3 => k0_hw617.1 k0_h3
theorem k0_off2485_inb : ∀ (i : grid0.Coords) (v1611 : BitVec 32) (k0_hw617 : k0_chk617 i v1611), ∀ (k0_h3 : k0_cond3 i = 1#1), ∀ a, (k0_off2485 v1611) a + S8x128.size a ≤ S131072x128.size a := fun i v1611 k0_hw617 k0_h3 => k0_hw617.2 k0_h3

def k0_off2486 (i : grid0.Coords) : Fin 3 → Nat :=
  let c0_975 : Index := 0#32
  let c0_976 : Index := 0#32
  let arg1 : BitVec 32 := BitVec.ofNat 32 (i 1).val
  let c2_i32_971 : BitVec 32 := 2#32
  let v1620 : BitVec 32 := Scalar.muli arg1 c2_i32_971
  let c0_i32_972 : BitVec 32 := 0#32
  let v1621 : BitVec 32 := Scalar.addi v1620 c0_i32_972
  let c256_i32_973 : BitVec 32 := 256#32
  let v1622 : BitVec 32 := Scalar.muli v1621 c256_i32_973
  let c104_i32 : BitVec 32 := 104#32
  let v1623 : BitVec 32 := Scalar.addi v1622 c104_i32
  let v1625 : Index := Scalar.indexCast v1623
  ![0, 0, v1625.toNat]
def k0_mult1235 (v1626 : BitVec 32) : BitVec 32 :=
  v1626

def k0_mult1236 (i : grid0.Coords) : BitVec 32 :=
  let arg1 : BitVec 32 := BitVec.ofNat 32 (i 1).val
  let c2_i32_971 : BitVec 32 := 2#32
  let v1620 : BitVec 32 := Scalar.muli arg1 c2_i32_971
  let c0_i32_972 : BitVec 32 := 0#32
  let v1621 : BitVec 32 := Scalar.addi v1620 c0_i32_972
  let c256_i32_973 : BitVec 32 := 256#32
  let v1622 : BitVec 32 := Scalar.muli v1621 c256_i32_973
  let c104_i32 : BitVec 32 := 104#32
  let v1623 : BitVec 32 := Scalar.addi v1622 c104_i32
  let c8_i32_977 : BitVec 32 := 8#32
  let v1628 : BitVec 32 := Scalar.muli v1623 c8_i32_977
  v1628
def k0_off2487 (i : grid0.Coords) : Fin 1 → Nat :=
  let c1_i32_974 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1624 : BitVec 32 := Scalar.subi c1_i32_974 v9
  ![v1624.toNat]
def k0_off2488 (i : grid0.Coords) : Fin 3 → Nat :=
  let c1_i32_974 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1624 : BitVec 32 := Scalar.subi c1_i32_974 v9
  let arg1 : BitVec 32 := BitVec.ofNat 32 (i 1).val
  let c2_i32_971 : BitVec 32 := 2#32
  let v1620 : BitVec 32 := Scalar.muli arg1 c2_i32_971
  let c0_i32_972 : BitVec 32 := 0#32
  let v1621 : BitVec 32 := Scalar.addi v1620 c0_i32_972
  let c256_i32_973 : BitVec 32 := 256#32
  let v1622 : BitVec 32 := Scalar.muli v1621 c256_i32_973
  let c104_i32 : BitVec 32 := 104#32
  let v1623 : BitVec 32 := Scalar.addi v1622 c104_i32
  let c8_i32_977 : BitVec 32 := 8#32
  let v1628 : BitVec 32 := Scalar.muli v1623 c8_i32_977
  let v1629 : BitVec 32 := v1628
  let c0_i32_978 : BitVec 32 := 0#32
  ![v1624.toNat, v1629.toNat, 0]
def k0_off2489 (v1626 : BitVec 32) : Fin 2 → Nat :=
  let v1627 : BitVec 32 := v1626
  let c0_i32_979 : BitVec 32 := 0#32
  ![v1627.toNat, 0]

def k0_chk618 (i : grid0.Coords) (v1626 : BitVec 32) : Prop :=
  (∀ (k0_h3 : k0_cond3 i = 1#1), 8 ∣ (k0_mult1235 v1626).toNat) ∧
  (∀ (k0_h3 : k0_cond3 i = 1#1), ∀ a, (k0_off2489 v1626) a + S8x128.size a ≤ S131072x128.size a)
theorem k0_mult1235_dvd : ∀ (i : grid0.Coords) (v1626 : BitVec 32) (k0_hw618 : k0_chk618 i v1626), ∀ (k0_h3 : k0_cond3 i = 1#1), 8 ∣ (k0_mult1235 v1626).toNat := fun i v1626 k0_hw618 k0_h3 => k0_hw618.1 k0_h3
theorem k0_off2489_inb : ∀ (i : grid0.Coords) (v1626 : BitVec 32) (k0_hw618 : k0_chk618 i v1626), ∀ (k0_h3 : k0_cond3 i = 1#1), ∀ a, (k0_off2489 v1626) a + S8x128.size a ≤ S131072x128.size a := fun i v1626 k0_hw618 k0_h3 => k0_hw618.2 k0_h3

def k0_off2490 (i : grid0.Coords) : Fin 3 → Nat :=
  let c0_984 : Index := 0#32
  let c0_985 : Index := 0#32
  let arg1 : BitVec 32 := BitVec.ofNat 32 (i 1).val
  let c2_i32_980 : BitVec 32 := 2#32
  let v1635 : BitVec 32 := Scalar.muli arg1 c2_i32_980
  let c0_i32_981 : BitVec 32 := 0#32
  let v1636 : BitVec 32 := Scalar.addi v1635 c0_i32_981
  let c256_i32_982 : BitVec 32 := 256#32
  let v1637 : BitVec 32 := Scalar.muli v1636 c256_i32_982
  let c105_i32 : BitVec 32 := 105#32
  let v1638 : BitVec 32 := Scalar.addi v1637 c105_i32
  let v1640 : Index := Scalar.indexCast v1638
  ![0, 0, v1640.toNat]
def k0_mult1237 (v1641 : BitVec 32) : BitVec 32 :=
  v1641

def k0_mult1238 (i : grid0.Coords) : BitVec 32 :=
  let arg1 : BitVec 32 := BitVec.ofNat 32 (i 1).val
  let c2_i32_980 : BitVec 32 := 2#32
  let v1635 : BitVec 32 := Scalar.muli arg1 c2_i32_980
  let c0_i32_981 : BitVec 32 := 0#32
  let v1636 : BitVec 32 := Scalar.addi v1635 c0_i32_981
  let c256_i32_982 : BitVec 32 := 256#32
  let v1637 : BitVec 32 := Scalar.muli v1636 c256_i32_982
  let c105_i32 : BitVec 32 := 105#32
  let v1638 : BitVec 32 := Scalar.addi v1637 c105_i32
  let c8_i32_986 : BitVec 32 := 8#32
  let v1643 : BitVec 32 := Scalar.muli v1638 c8_i32_986
  v1643
def k0_off2491 (i : grid0.Coords) : Fin 1 → Nat :=
  let c1_i32_983 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1639 : BitVec 32 := Scalar.subi c1_i32_983 v9
  ![v1639.toNat]
def k0_off2492 (i : grid0.Coords) : Fin 3 → Nat :=
  let c1_i32_983 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1639 : BitVec 32 := Scalar.subi c1_i32_983 v9
  let arg1 : BitVec 32 := BitVec.ofNat 32 (i 1).val
  let c2_i32_980 : BitVec 32 := 2#32
  let v1635 : BitVec 32 := Scalar.muli arg1 c2_i32_980
  let c0_i32_981 : BitVec 32 := 0#32
  let v1636 : BitVec 32 := Scalar.addi v1635 c0_i32_981
  let c256_i32_982 : BitVec 32 := 256#32
  let v1637 : BitVec 32 := Scalar.muli v1636 c256_i32_982
  let c105_i32 : BitVec 32 := 105#32
  let v1638 : BitVec 32 := Scalar.addi v1637 c105_i32
  let c8_i32_986 : BitVec 32 := 8#32
  let v1643 : BitVec 32 := Scalar.muli v1638 c8_i32_986
  let v1644 : BitVec 32 := v1643
  let c0_i32_987 : BitVec 32 := 0#32
  ![v1639.toNat, v1644.toNat, 0]
def k0_off2493 (v1641 : BitVec 32) : Fin 2 → Nat :=
  let v1642 : BitVec 32 := v1641
  let c0_i32_988 : BitVec 32 := 0#32
  ![v1642.toNat, 0]

def k0_chk619 (i : grid0.Coords) (v1641 : BitVec 32) : Prop :=
  (∀ (k0_h3 : k0_cond3 i = 1#1), 8 ∣ (k0_mult1237 v1641).toNat) ∧
  (∀ (k0_h3 : k0_cond3 i = 1#1), ∀ a, (k0_off2493 v1641) a + S8x128.size a ≤ S131072x128.size a)
theorem k0_mult1237_dvd : ∀ (i : grid0.Coords) (v1641 : BitVec 32) (k0_hw619 : k0_chk619 i v1641), ∀ (k0_h3 : k0_cond3 i = 1#1), 8 ∣ (k0_mult1237 v1641).toNat := fun i v1641 k0_hw619 k0_h3 => k0_hw619.1 k0_h3
theorem k0_off2493_inb : ∀ (i : grid0.Coords) (v1641 : BitVec 32) (k0_hw619 : k0_chk619 i v1641), ∀ (k0_h3 : k0_cond3 i = 1#1), ∀ a, (k0_off2493 v1641) a + S8x128.size a ≤ S131072x128.size a := fun i v1641 k0_hw619 k0_h3 => k0_hw619.2 k0_h3

def k0_off2494 (i : grid0.Coords) : Fin 3 → Nat :=
  let c0_993 : Index := 0#32
  let c0_994 : Index := 0#32
  let arg1 : BitVec 32 := BitVec.ofNat 32 (i 1).val
  let c2_i32_989 : BitVec 32 := 2#32
  let v1650 : BitVec 32 := Scalar.muli arg1 c2_i32_989
  let c0_i32_990 : BitVec 32 := 0#32
  let v1651 : BitVec 32 := Scalar.addi v1650 c0_i32_990
  let c256_i32_991 : BitVec 32 := 256#32
  let v1652 : BitVec 32 := Scalar.muli v1651 c256_i32_991
  let c106_i32 : BitVec 32 := 106#32
  let v1653 : BitVec 32 := Scalar.addi v1652 c106_i32
  let v1655 : Index := Scalar.indexCast v1653
  ![0, 0, v1655.toNat]
def k0_mult1239 (v1656 : BitVec 32) : BitVec 32 :=
  v1656

def k0_mult1240 (i : grid0.Coords) : BitVec 32 :=
  let arg1 : BitVec 32 := BitVec.ofNat 32 (i 1).val
  let c2_i32_989 : BitVec 32 := 2#32
  let v1650 : BitVec 32 := Scalar.muli arg1 c2_i32_989
  let c0_i32_990 : BitVec 32 := 0#32
  let v1651 : BitVec 32 := Scalar.addi v1650 c0_i32_990
  let c256_i32_991 : BitVec 32 := 256#32
  let v1652 : BitVec 32 := Scalar.muli v1651 c256_i32_991
  let c106_i32 : BitVec 32 := 106#32
  let v1653 : BitVec 32 := Scalar.addi v1652 c106_i32
  let c8_i32_995 : BitVec 32 := 8#32
  let v1658 : BitVec 32 := Scalar.muli v1653 c8_i32_995
  v1658
def k0_off2495 (i : grid0.Coords) : Fin 1 → Nat :=
  let c1_i32_992 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1654 : BitVec 32 := Scalar.subi c1_i32_992 v9
  ![v1654.toNat]
def k0_off2496 (i : grid0.Coords) : Fin 3 → Nat :=
  let c1_i32_992 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1654 : BitVec 32 := Scalar.subi c1_i32_992 v9
  let arg1 : BitVec 32 := BitVec.ofNat 32 (i 1).val
  let c2_i32_989 : BitVec 32 := 2#32
  let v1650 : BitVec 32 := Scalar.muli arg1 c2_i32_989
  let c0_i32_990 : BitVec 32 := 0#32
  let v1651 : BitVec 32 := Scalar.addi v1650 c0_i32_990
  let c256_i32_991 : BitVec 32 := 256#32
  let v1652 : BitVec 32 := Scalar.muli v1651 c256_i32_991
  let c106_i32 : BitVec 32 := 106#32
  let v1653 : BitVec 32 := Scalar.addi v1652 c106_i32
  let c8_i32_995 : BitVec 32 := 8#32
  let v1658 : BitVec 32 := Scalar.muli v1653 c8_i32_995
  let v1659 : BitVec 32 := v1658
  let c0_i32_996 : BitVec 32 := 0#32
  ![v1654.toNat, v1659.toNat, 0]
def k0_off2497 (v1656 : BitVec 32) : Fin 2 → Nat :=
  let v1657 : BitVec 32 := v1656
  let c0_i32_997 : BitVec 32 := 0#32
  ![v1657.toNat, 0]

def k0_chk620 (i : grid0.Coords) (v1656 : BitVec 32) : Prop :=
  (∀ (k0_h3 : k0_cond3 i = 1#1), 8 ∣ (k0_mult1239 v1656).toNat) ∧
  (∀ (k0_h3 : k0_cond3 i = 1#1), ∀ a, (k0_off2497 v1656) a + S8x128.size a ≤ S131072x128.size a)
theorem k0_mult1239_dvd : ∀ (i : grid0.Coords) (v1656 : BitVec 32) (k0_hw620 : k0_chk620 i v1656), ∀ (k0_h3 : k0_cond3 i = 1#1), 8 ∣ (k0_mult1239 v1656).toNat := fun i v1656 k0_hw620 k0_h3 => k0_hw620.1 k0_h3
theorem k0_off2497_inb : ∀ (i : grid0.Coords) (v1656 : BitVec 32) (k0_hw620 : k0_chk620 i v1656), ∀ (k0_h3 : k0_cond3 i = 1#1), ∀ a, (k0_off2497 v1656) a + S8x128.size a ≤ S131072x128.size a := fun i v1656 k0_hw620 k0_h3 => k0_hw620.2 k0_h3

def k0_off2498 (i : grid0.Coords) : Fin 3 → Nat :=
  let c0_1002 : Index := 0#32
  let c0_1003 : Index := 0#32
  let arg1 : BitVec 32 := BitVec.ofNat 32 (i 1).val
  let c2_i32_998 : BitVec 32 := 2#32
  let v1665 : BitVec 32 := Scalar.muli arg1 c2_i32_998
  let c0_i32_999 : BitVec 32 := 0#32
  let v1666 : BitVec 32 := Scalar.addi v1665 c0_i32_999
  let c256_i32_1000 : BitVec 32 := 256#32
  let v1667 : BitVec 32 := Scalar.muli v1666 c256_i32_1000
  let c107_i32 : BitVec 32 := 107#32
  let v1668 : BitVec 32 := Scalar.addi v1667 c107_i32
  let v1670 : Index := Scalar.indexCast v1668
  ![0, 0, v1670.toNat]
def k0_mult1241 (v1671 : BitVec 32) : BitVec 32 :=
  v1671

def k0_mult1242 (i : grid0.Coords) : BitVec 32 :=
  let arg1 : BitVec 32 := BitVec.ofNat 32 (i 1).val
  let c2_i32_998 : BitVec 32 := 2#32
  let v1665 : BitVec 32 := Scalar.muli arg1 c2_i32_998
  let c0_i32_999 : BitVec 32 := 0#32
  let v1666 : BitVec 32 := Scalar.addi v1665 c0_i32_999
  let c256_i32_1000 : BitVec 32 := 256#32
  let v1667 : BitVec 32 := Scalar.muli v1666 c256_i32_1000
  let c107_i32 : BitVec 32 := 107#32
  let v1668 : BitVec 32 := Scalar.addi v1667 c107_i32
  let c8_i32_1004 : BitVec 32 := 8#32
  let v1673 : BitVec 32 := Scalar.muli v1668 c8_i32_1004
  v1673
def k0_off2499 (i : grid0.Coords) : Fin 1 → Nat :=
  let c1_i32_1001 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1669 : BitVec 32 := Scalar.subi c1_i32_1001 v9
  ![v1669.toNat]
def k0_off2500 (i : grid0.Coords) : Fin 3 → Nat :=
  let c1_i32_1001 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1669 : BitVec 32 := Scalar.subi c1_i32_1001 v9
  let arg1 : BitVec 32 := BitVec.ofNat 32 (i 1).val
  let c2_i32_998 : BitVec 32 := 2#32
  let v1665 : BitVec 32 := Scalar.muli arg1 c2_i32_998
  let c0_i32_999 : BitVec 32 := 0#32
  let v1666 : BitVec 32 := Scalar.addi v1665 c0_i32_999
  let c256_i32_1000 : BitVec 32 := 256#32
  let v1667 : BitVec 32 := Scalar.muli v1666 c256_i32_1000
  let c107_i32 : BitVec 32 := 107#32
  let v1668 : BitVec 32 := Scalar.addi v1667 c107_i32
  let c8_i32_1004 : BitVec 32 := 8#32
  let v1673 : BitVec 32 := Scalar.muli v1668 c8_i32_1004
  let v1674 : BitVec 32 := v1673
  let c0_i32_1005 : BitVec 32 := 0#32
  ![v1669.toNat, v1674.toNat, 0]
def k0_off2501 (v1671 : BitVec 32) : Fin 2 → Nat :=
  let v1672 : BitVec 32 := v1671
  let c0_i32_1006 : BitVec 32 := 0#32
  ![v1672.toNat, 0]

def k0_chk621 (i : grid0.Coords) (v1671 : BitVec 32) : Prop :=
  (∀ (k0_h3 : k0_cond3 i = 1#1), 8 ∣ (k0_mult1241 v1671).toNat) ∧
  (∀ (k0_h3 : k0_cond3 i = 1#1), ∀ a, (k0_off2501 v1671) a + S8x128.size a ≤ S131072x128.size a)
theorem k0_mult1241_dvd : ∀ (i : grid0.Coords) (v1671 : BitVec 32) (k0_hw621 : k0_chk621 i v1671), ∀ (k0_h3 : k0_cond3 i = 1#1), 8 ∣ (k0_mult1241 v1671).toNat := fun i v1671 k0_hw621 k0_h3 => k0_hw621.1 k0_h3
theorem k0_off2501_inb : ∀ (i : grid0.Coords) (v1671 : BitVec 32) (k0_hw621 : k0_chk621 i v1671), ∀ (k0_h3 : k0_cond3 i = 1#1), ∀ a, (k0_off2501 v1671) a + S8x128.size a ≤ S131072x128.size a := fun i v1671 k0_hw621 k0_h3 => k0_hw621.2 k0_h3

def k0_off2502 (i : grid0.Coords) : Fin 3 → Nat :=
  let c0_1011 : Index := 0#32
  let c0_1012 : Index := 0#32
  let arg1 : BitVec 32 := BitVec.ofNat 32 (i 1).val
  let c2_i32_1007 : BitVec 32 := 2#32
  let v1680 : BitVec 32 := Scalar.muli arg1 c2_i32_1007
  let c0_i32_1008 : BitVec 32 := 0#32
  let v1681 : BitVec 32 := Scalar.addi v1680 c0_i32_1008
  let c256_i32_1009 : BitVec 32 := 256#32
  let v1682 : BitVec 32 := Scalar.muli v1681 c256_i32_1009
  let c108_i32 : BitVec 32 := 108#32
  let v1683 : BitVec 32 := Scalar.addi v1682 c108_i32
  let v1685 : Index := Scalar.indexCast v1683
  ![0, 0, v1685.toNat]
def k0_mult1243 (v1686 : BitVec 32) : BitVec 32 :=
  v1686

def k0_mult1244 (i : grid0.Coords) : BitVec 32 :=
  let arg1 : BitVec 32 := BitVec.ofNat 32 (i 1).val
  let c2_i32_1007 : BitVec 32 := 2#32
  let v1680 : BitVec 32 := Scalar.muli arg1 c2_i32_1007
  let c0_i32_1008 : BitVec 32 := 0#32
  let v1681 : BitVec 32 := Scalar.addi v1680 c0_i32_1008
  let c256_i32_1009 : BitVec 32 := 256#32
  let v1682 : BitVec 32 := Scalar.muli v1681 c256_i32_1009
  let c108_i32 : BitVec 32 := 108#32
  let v1683 : BitVec 32 := Scalar.addi v1682 c108_i32
  let c8_i32_1013 : BitVec 32 := 8#32
  let v1688 : BitVec 32 := Scalar.muli v1683 c8_i32_1013
  v1688
def k0_off2503 (i : grid0.Coords) : Fin 1 → Nat :=
  let c1_i32_1010 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1684 : BitVec 32 := Scalar.subi c1_i32_1010 v9
  ![v1684.toNat]
def k0_off2504 (i : grid0.Coords) : Fin 3 → Nat :=
  let c1_i32_1010 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1684 : BitVec 32 := Scalar.subi c1_i32_1010 v9
  let arg1 : BitVec 32 := BitVec.ofNat 32 (i 1).val
  let c2_i32_1007 : BitVec 32 := 2#32
  let v1680 : BitVec 32 := Scalar.muli arg1 c2_i32_1007
  let c0_i32_1008 : BitVec 32 := 0#32
  let v1681 : BitVec 32 := Scalar.addi v1680 c0_i32_1008
  let c256_i32_1009 : BitVec 32 := 256#32
  let v1682 : BitVec 32 := Scalar.muli v1681 c256_i32_1009
  let c108_i32 : BitVec 32 := 108#32
  let v1683 : BitVec 32 := Scalar.addi v1682 c108_i32
  let c8_i32_1013 : BitVec 32 := 8#32
  let v1688 : BitVec 32 := Scalar.muli v1683 c8_i32_1013
  let v1689 : BitVec 32 := v1688
  let c0_i32_1014 : BitVec 32 := 0#32
  ![v1684.toNat, v1689.toNat, 0]
def k0_off2505 (v1686 : BitVec 32) : Fin 2 → Nat :=
  let v1687 : BitVec 32 := v1686
  let c0_i32_1015 : BitVec 32 := 0#32
  ![v1687.toNat, 0]

def k0_chk622 (i : grid0.Coords) (v1686 : BitVec 32) : Prop :=
  (∀ (k0_h3 : k0_cond3 i = 1#1), 8 ∣ (k0_mult1243 v1686).toNat) ∧
  (∀ (k0_h3 : k0_cond3 i = 1#1), ∀ a, (k0_off2505 v1686) a + S8x128.size a ≤ S131072x128.size a)
theorem k0_mult1243_dvd : ∀ (i : grid0.Coords) (v1686 : BitVec 32) (k0_hw622 : k0_chk622 i v1686), ∀ (k0_h3 : k0_cond3 i = 1#1), 8 ∣ (k0_mult1243 v1686).toNat := fun i v1686 k0_hw622 k0_h3 => k0_hw622.1 k0_h3
theorem k0_off2505_inb : ∀ (i : grid0.Coords) (v1686 : BitVec 32) (k0_hw622 : k0_chk622 i v1686), ∀ (k0_h3 : k0_cond3 i = 1#1), ∀ a, (k0_off2505 v1686) a + S8x128.size a ≤ S131072x128.size a := fun i v1686 k0_hw622 k0_h3 => k0_hw622.2 k0_h3

def k0_off2506 (i : grid0.Coords) : Fin 3 → Nat :=
  let c0_1020 : Index := 0#32
  let c0_1021 : Index := 0#32
  let arg1 : BitVec 32 := BitVec.ofNat 32 (i 1).val
  let c2_i32_1016 : BitVec 32 := 2#32
  let v1695 : BitVec 32 := Scalar.muli arg1 c2_i32_1016
  let c0_i32_1017 : BitVec 32 := 0#32
  let v1696 : BitVec 32 := Scalar.addi v1695 c0_i32_1017
  let c256_i32_1018 : BitVec 32 := 256#32
  let v1697 : BitVec 32 := Scalar.muli v1696 c256_i32_1018
  let c109_i32 : BitVec 32 := 109#32
  let v1698 : BitVec 32 := Scalar.addi v1697 c109_i32
  let v1700 : Index := Scalar.indexCast v1698
  ![0, 0, v1700.toNat]
def k0_mult1245 (v1701 : BitVec 32) : BitVec 32 :=
  v1701

def k0_mult1246 (i : grid0.Coords) : BitVec 32 :=
  let arg1 : BitVec 32 := BitVec.ofNat 32 (i 1).val
  let c2_i32_1016 : BitVec 32 := 2#32
  let v1695 : BitVec 32 := Scalar.muli arg1 c2_i32_1016
  let c0_i32_1017 : BitVec 32 := 0#32
  let v1696 : BitVec 32 := Scalar.addi v1695 c0_i32_1017
  let c256_i32_1018 : BitVec 32 := 256#32
  let v1697 : BitVec 32 := Scalar.muli v1696 c256_i32_1018
  let c109_i32 : BitVec 32 := 109#32
  let v1698 : BitVec 32 := Scalar.addi v1697 c109_i32
  let c8_i32_1022 : BitVec 32 := 8#32
  let v1703 : BitVec 32 := Scalar.muli v1698 c8_i32_1022
  v1703
def k0_off2507 (i : grid0.Coords) : Fin 1 → Nat :=
  let c1_i32_1019 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1699 : BitVec 32 := Scalar.subi c1_i32_1019 v9
  ![v1699.toNat]
def k0_off2508 (i : grid0.Coords) : Fin 3 → Nat :=
  let c1_i32_1019 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1699 : BitVec 32 := Scalar.subi c1_i32_1019 v9
  let arg1 : BitVec 32 := BitVec.ofNat 32 (i 1).val
  let c2_i32_1016 : BitVec 32 := 2#32
  let v1695 : BitVec 32 := Scalar.muli arg1 c2_i32_1016
  let c0_i32_1017 : BitVec 32 := 0#32
  let v1696 : BitVec 32 := Scalar.addi v1695 c0_i32_1017
  let c256_i32_1018 : BitVec 32 := 256#32
  let v1697 : BitVec 32 := Scalar.muli v1696 c256_i32_1018
  let c109_i32 : BitVec 32 := 109#32
  let v1698 : BitVec 32 := Scalar.addi v1697 c109_i32
  let c8_i32_1022 : BitVec 32 := 8#32
  let v1703 : BitVec 32 := Scalar.muli v1698 c8_i32_1022
  let v1704 : BitVec 32 := v1703
  let c0_i32_1023 : BitVec 32 := 0#32
  ![v1699.toNat, v1704.toNat, 0]
def k0_off2509 (v1701 : BitVec 32) : Fin 2 → Nat :=
  let v1702 : BitVec 32 := v1701
  let c0_i32_1024 : BitVec 32 := 0#32
  ![v1702.toNat, 0]

def k0_chk623 (i : grid0.Coords) (v1701 : BitVec 32) : Prop :=
  (∀ (k0_h3 : k0_cond3 i = 1#1), 8 ∣ (k0_mult1245 v1701).toNat) ∧
  (∀ (k0_h3 : k0_cond3 i = 1#1), ∀ a, (k0_off2509 v1701) a + S8x128.size a ≤ S131072x128.size a)
theorem k0_mult1245_dvd : ∀ (i : grid0.Coords) (v1701 : BitVec 32) (k0_hw623 : k0_chk623 i v1701), ∀ (k0_h3 : k0_cond3 i = 1#1), 8 ∣ (k0_mult1245 v1701).toNat := fun i v1701 k0_hw623 k0_h3 => k0_hw623.1 k0_h3
theorem k0_off2509_inb : ∀ (i : grid0.Coords) (v1701 : BitVec 32) (k0_hw623 : k0_chk623 i v1701), ∀ (k0_h3 : k0_cond3 i = 1#1), ∀ a, (k0_off2509 v1701) a + S8x128.size a ≤ S131072x128.size a := fun i v1701 k0_hw623 k0_h3 => k0_hw623.2 k0_h3

def k0_off2510 (i : grid0.Coords) : Fin 3 → Nat :=
  let c0_1029 : Index := 0#32
  let c0_1030 : Index := 0#32
  let arg1 : BitVec 32 := BitVec.ofNat 32 (i 1).val
  let c2_i32_1025 : BitVec 32 := 2#32
  let v1710 : BitVec 32 := Scalar.muli arg1 c2_i32_1025
  let c0_i32_1026 : BitVec 32 := 0#32
  let v1711 : BitVec 32 := Scalar.addi v1710 c0_i32_1026
  let c256_i32_1027 : BitVec 32 := 256#32
  let v1712 : BitVec 32 := Scalar.muli v1711 c256_i32_1027
  let c110_i32 : BitVec 32 := 110#32
  let v1713 : BitVec 32 := Scalar.addi v1712 c110_i32
  let v1715 : Index := Scalar.indexCast v1713
  ![0, 0, v1715.toNat]
def k0_mult1247 (v1716 : BitVec 32) : BitVec 32 :=
  v1716

def k0_mult1248 (i : grid0.Coords) : BitVec 32 :=
  let arg1 : BitVec 32 := BitVec.ofNat 32 (i 1).val
  let c2_i32_1025 : BitVec 32 := 2#32
  let v1710 : BitVec 32 := Scalar.muli arg1 c2_i32_1025
  let c0_i32_1026 : BitVec 32 := 0#32
  let v1711 : BitVec 32 := Scalar.addi v1710 c0_i32_1026
  let c256_i32_1027 : BitVec 32 := 256#32
  let v1712 : BitVec 32 := Scalar.muli v1711 c256_i32_1027
  let c110_i32 : BitVec 32 := 110#32
  let v1713 : BitVec 32 := Scalar.addi v1712 c110_i32
  let c8_i32_1031 : BitVec 32 := 8#32
  let v1718 : BitVec 32 := Scalar.muli v1713 c8_i32_1031
  v1718
def k0_off2511 (i : grid0.Coords) : Fin 1 → Nat :=
  let c1_i32_1028 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1714 : BitVec 32 := Scalar.subi c1_i32_1028 v9
  ![v1714.toNat]
def k0_off2512 (i : grid0.Coords) : Fin 3 → Nat :=
  let c1_i32_1028 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1714 : BitVec 32 := Scalar.subi c1_i32_1028 v9
  let arg1 : BitVec 32 := BitVec.ofNat 32 (i 1).val
  let c2_i32_1025 : BitVec 32 := 2#32
  let v1710 : BitVec 32 := Scalar.muli arg1 c2_i32_1025
  let c0_i32_1026 : BitVec 32 := 0#32
  let v1711 : BitVec 32 := Scalar.addi v1710 c0_i32_1026
  let c256_i32_1027 : BitVec 32 := 256#32
  let v1712 : BitVec 32 := Scalar.muli v1711 c256_i32_1027
  let c110_i32 : BitVec 32 := 110#32
  let v1713 : BitVec 32 := Scalar.addi v1712 c110_i32
  let c8_i32_1031 : BitVec 32 := 8#32
  let v1718 : BitVec 32 := Scalar.muli v1713 c8_i32_1031
  let v1719 : BitVec 32 := v1718
  let c0_i32_1032 : BitVec 32 := 0#32
  ![v1714.toNat, v1719.toNat, 0]
def k0_off2513 (v1716 : BitVec 32) : Fin 2 → Nat :=
  let v1717 : BitVec 32 := v1716
  let c0_i32_1033 : BitVec 32 := 0#32
  ![v1717.toNat, 0]

def k0_chk624 (i : grid0.Coords) (v1716 : BitVec 32) : Prop :=
  (∀ (k0_h3 : k0_cond3 i = 1#1), 8 ∣ (k0_mult1247 v1716).toNat) ∧
  (∀ (k0_h3 : k0_cond3 i = 1#1), ∀ a, (k0_off2513 v1716) a + S8x128.size a ≤ S131072x128.size a)
theorem k0_mult1247_dvd : ∀ (i : grid0.Coords) (v1716 : BitVec 32) (k0_hw624 : k0_chk624 i v1716), ∀ (k0_h3 : k0_cond3 i = 1#1), 8 ∣ (k0_mult1247 v1716).toNat := fun i v1716 k0_hw624 k0_h3 => k0_hw624.1 k0_h3
theorem k0_off2513_inb : ∀ (i : grid0.Coords) (v1716 : BitVec 32) (k0_hw624 : k0_chk624 i v1716), ∀ (k0_h3 : k0_cond3 i = 1#1), ∀ a, (k0_off2513 v1716) a + S8x128.size a ≤ S131072x128.size a := fun i v1716 k0_hw624 k0_h3 => k0_hw624.2 k0_h3

def k0_off2514 (i : grid0.Coords) : Fin 3 → Nat :=
  let c0_1038 : Index := 0#32
  let c0_1039 : Index := 0#32
  let arg1 : BitVec 32 := BitVec.ofNat 32 (i 1).val
  let c2_i32_1034 : BitVec 32 := 2#32
  let v1725 : BitVec 32 := Scalar.muli arg1 c2_i32_1034
  let c0_i32_1035 : BitVec 32 := 0#32
  let v1726 : BitVec 32 := Scalar.addi v1725 c0_i32_1035
  let c256_i32_1036 : BitVec 32 := 256#32
  let v1727 : BitVec 32 := Scalar.muli v1726 c256_i32_1036
  let c111_i32 : BitVec 32 := 111#32
  let v1728 : BitVec 32 := Scalar.addi v1727 c111_i32
  let v1730 : Index := Scalar.indexCast v1728
  ![0, 0, v1730.toNat]
def k0_mult1249 (v1731 : BitVec 32) : BitVec 32 :=
  v1731

def k0_mult1250 (i : grid0.Coords) : BitVec 32 :=
  let arg1 : BitVec 32 := BitVec.ofNat 32 (i 1).val
  let c2_i32_1034 : BitVec 32 := 2#32
  let v1725 : BitVec 32 := Scalar.muli arg1 c2_i32_1034
  let c0_i32_1035 : BitVec 32 := 0#32
  let v1726 : BitVec 32 := Scalar.addi v1725 c0_i32_1035
  let c256_i32_1036 : BitVec 32 := 256#32
  let v1727 : BitVec 32 := Scalar.muli v1726 c256_i32_1036
  let c111_i32 : BitVec 32 := 111#32
  let v1728 : BitVec 32 := Scalar.addi v1727 c111_i32
  let c8_i32_1040 : BitVec 32 := 8#32
  let v1733 : BitVec 32 := Scalar.muli v1728 c8_i32_1040
  v1733
def k0_off2515 (i : grid0.Coords) : Fin 1 → Nat :=
  let c1_i32_1037 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1729 : BitVec 32 := Scalar.subi c1_i32_1037 v9
  ![v1729.toNat]
def k0_off2516 (i : grid0.Coords) : Fin 3 → Nat :=
  let c1_i32_1037 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1729 : BitVec 32 := Scalar.subi c1_i32_1037 v9
  let arg1 : BitVec 32 := BitVec.ofNat 32 (i 1).val
  let c2_i32_1034 : BitVec 32 := 2#32
  let v1725 : BitVec 32 := Scalar.muli arg1 c2_i32_1034
  let c0_i32_1035 : BitVec 32 := 0#32
  let v1726 : BitVec 32 := Scalar.addi v1725 c0_i32_1035
  let c256_i32_1036 : BitVec 32 := 256#32
  let v1727 : BitVec 32 := Scalar.muli v1726 c256_i32_1036
  let c111_i32 : BitVec 32 := 111#32
  let v1728 : BitVec 32 := Scalar.addi v1727 c111_i32
  let c8_i32_1040 : BitVec 32 := 8#32
  let v1733 : BitVec 32 := Scalar.muli v1728 c8_i32_1040
  let v1734 : BitVec 32 := v1733
  let c0_i32_1041 : BitVec 32 := 0#32
  ![v1729.toNat, v1734.toNat, 0]
def k0_off2517 (v1731 : BitVec 32) : Fin 2 → Nat :=
  let v1732 : BitVec 32 := v1731
  let c0_i32_1042 : BitVec 32 := 0#32
  ![v1732.toNat, 0]

def k0_chk625 (i : grid0.Coords) (v1731 : BitVec 32) : Prop :=
  (∀ (k0_h3 : k0_cond3 i = 1#1), 8 ∣ (k0_mult1249 v1731).toNat) ∧
  (∀ (k0_h3 : k0_cond3 i = 1#1), ∀ a, (k0_off2517 v1731) a + S8x128.size a ≤ S131072x128.size a)
theorem k0_mult1249_dvd : ∀ (i : grid0.Coords) (v1731 : BitVec 32) (k0_hw625 : k0_chk625 i v1731), ∀ (k0_h3 : k0_cond3 i = 1#1), 8 ∣ (k0_mult1249 v1731).toNat := fun i v1731 k0_hw625 k0_h3 => k0_hw625.1 k0_h3
theorem k0_off2517_inb : ∀ (i : grid0.Coords) (v1731 : BitVec 32) (k0_hw625 : k0_chk625 i v1731), ∀ (k0_h3 : k0_cond3 i = 1#1), ∀ a, (k0_off2517 v1731) a + S8x128.size a ≤ S131072x128.size a := fun i v1731 k0_hw625 k0_h3 => k0_hw625.2 k0_h3

def k0_off2518 (i : grid0.Coords) : Fin 3 → Nat :=
  let c0_1047 : Index := 0#32
  let c0_1048 : Index := 0#32
  let arg1 : BitVec 32 := BitVec.ofNat 32 (i 1).val
  let c2_i32_1043 : BitVec 32 := 2#32
  let v1740 : BitVec 32 := Scalar.muli arg1 c2_i32_1043
  let c0_i32_1044 : BitVec 32 := 0#32
  let v1741 : BitVec 32 := Scalar.addi v1740 c0_i32_1044
  let c256_i32_1045 : BitVec 32 := 256#32
  let v1742 : BitVec 32 := Scalar.muli v1741 c256_i32_1045
  let c112_i32 : BitVec 32 := 112#32
  let v1743 : BitVec 32 := Scalar.addi v1742 c112_i32
  let v1745 : Index := Scalar.indexCast v1743
  ![0, 0, v1745.toNat]
def k0_mult1251 (v1746 : BitVec 32) : BitVec 32 :=
  v1746

def k0_mult1252 (i : grid0.Coords) : BitVec 32 :=
  let arg1 : BitVec 32 := BitVec.ofNat 32 (i 1).val
  let c2_i32_1043 : BitVec 32 := 2#32
  let v1740 : BitVec 32 := Scalar.muli arg1 c2_i32_1043
  let c0_i32_1044 : BitVec 32 := 0#32
  let v1741 : BitVec 32 := Scalar.addi v1740 c0_i32_1044
  let c256_i32_1045 : BitVec 32 := 256#32
  let v1742 : BitVec 32 := Scalar.muli v1741 c256_i32_1045
  let c112_i32 : BitVec 32 := 112#32
  let v1743 : BitVec 32 := Scalar.addi v1742 c112_i32
  let c8_i32_1049 : BitVec 32 := 8#32
  let v1748 : BitVec 32 := Scalar.muli v1743 c8_i32_1049
  v1748
def k0_off2519 (i : grid0.Coords) : Fin 1 → Nat :=
  let c1_i32_1046 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1744 : BitVec 32 := Scalar.subi c1_i32_1046 v9
  ![v1744.toNat]
def k0_off2520 (i : grid0.Coords) : Fin 3 → Nat :=
  let c1_i32_1046 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1744 : BitVec 32 := Scalar.subi c1_i32_1046 v9
  let arg1 : BitVec 32 := BitVec.ofNat 32 (i 1).val
  let c2_i32_1043 : BitVec 32 := 2#32
  let v1740 : BitVec 32 := Scalar.muli arg1 c2_i32_1043
  let c0_i32_1044 : BitVec 32 := 0#32
  let v1741 : BitVec 32 := Scalar.addi v1740 c0_i32_1044
  let c256_i32_1045 : BitVec 32 := 256#32
  let v1742 : BitVec 32 := Scalar.muli v1741 c256_i32_1045
  let c112_i32 : BitVec 32 := 112#32
  let v1743 : BitVec 32 := Scalar.addi v1742 c112_i32
  let c8_i32_1049 : BitVec 32 := 8#32
  let v1748 : BitVec 32 := Scalar.muli v1743 c8_i32_1049
  let v1749 : BitVec 32 := v1748
  let c0_i32_1050 : BitVec 32 := 0#32
  ![v1744.toNat, v1749.toNat, 0]
def k0_off2521 (v1746 : BitVec 32) : Fin 2 → Nat :=
  let v1747 : BitVec 32 := v1746
  let c0_i32_1051 : BitVec 32 := 0#32
  ![v1747.toNat, 0]

def k0_chk626 (i : grid0.Coords) (v1746 : BitVec 32) : Prop :=
  (∀ (k0_h3 : k0_cond3 i = 1#1), 8 ∣ (k0_mult1251 v1746).toNat) ∧
  (∀ (k0_h3 : k0_cond3 i = 1#1), ∀ a, (k0_off2521 v1746) a + S8x128.size a ≤ S131072x128.size a)
theorem k0_mult1251_dvd : ∀ (i : grid0.Coords) (v1746 : BitVec 32) (k0_hw626 : k0_chk626 i v1746), ∀ (k0_h3 : k0_cond3 i = 1#1), 8 ∣ (k0_mult1251 v1746).toNat := fun i v1746 k0_hw626 k0_h3 => k0_hw626.1 k0_h3
theorem k0_off2521_inb : ∀ (i : grid0.Coords) (v1746 : BitVec 32) (k0_hw626 : k0_chk626 i v1746), ∀ (k0_h3 : k0_cond3 i = 1#1), ∀ a, (k0_off2521 v1746) a + S8x128.size a ≤ S131072x128.size a := fun i v1746 k0_hw626 k0_h3 => k0_hw626.2 k0_h3

def k0_off2522 (i : grid0.Coords) : Fin 3 → Nat :=
  let c0_1056 : Index := 0#32
  let c0_1057 : Index := 0#32
  let arg1 : BitVec 32 := BitVec.ofNat 32 (i 1).val
  let c2_i32_1052 : BitVec 32 := 2#32
  let v1755 : BitVec 32 := Scalar.muli arg1 c2_i32_1052
  let c0_i32_1053 : BitVec 32 := 0#32
  let v1756 : BitVec 32 := Scalar.addi v1755 c0_i32_1053
  let c256_i32_1054 : BitVec 32 := 256#32
  let v1757 : BitVec 32 := Scalar.muli v1756 c256_i32_1054
  let c113_i32 : BitVec 32 := 113#32
  let v1758 : BitVec 32 := Scalar.addi v1757 c113_i32
  let v1760 : Index := Scalar.indexCast v1758
  ![0, 0, v1760.toNat]
def k0_mult1253 (v1761 : BitVec 32) : BitVec 32 :=
  v1761

def k0_mult1254 (i : grid0.Coords) : BitVec 32 :=
  let arg1 : BitVec 32 := BitVec.ofNat 32 (i 1).val
  let c2_i32_1052 : BitVec 32 := 2#32
  let v1755 : BitVec 32 := Scalar.muli arg1 c2_i32_1052
  let c0_i32_1053 : BitVec 32 := 0#32
  let v1756 : BitVec 32 := Scalar.addi v1755 c0_i32_1053
  let c256_i32_1054 : BitVec 32 := 256#32
  let v1757 : BitVec 32 := Scalar.muli v1756 c256_i32_1054
  let c113_i32 : BitVec 32 := 113#32
  let v1758 : BitVec 32 := Scalar.addi v1757 c113_i32
  let c8_i32_1058 : BitVec 32 := 8#32
  let v1763 : BitVec 32 := Scalar.muli v1758 c8_i32_1058
  v1763
def k0_off2523 (i : grid0.Coords) : Fin 1 → Nat :=
  let c1_i32_1055 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1759 : BitVec 32 := Scalar.subi c1_i32_1055 v9
  ![v1759.toNat]
def k0_off2524 (i : grid0.Coords) : Fin 3 → Nat :=
  let c1_i32_1055 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1759 : BitVec 32 := Scalar.subi c1_i32_1055 v9
  let arg1 : BitVec 32 := BitVec.ofNat 32 (i 1).val
  let c2_i32_1052 : BitVec 32 := 2#32
  let v1755 : BitVec 32 := Scalar.muli arg1 c2_i32_1052
  let c0_i32_1053 : BitVec 32 := 0#32
  let v1756 : BitVec 32 := Scalar.addi v1755 c0_i32_1053
  let c256_i32_1054 : BitVec 32 := 256#32
  let v1757 : BitVec 32 := Scalar.muli v1756 c256_i32_1054
  let c113_i32 : BitVec 32 := 113#32
  let v1758 : BitVec 32 := Scalar.addi v1757 c113_i32
  let c8_i32_1058 : BitVec 32 := 8#32
  let v1763 : BitVec 32 := Scalar.muli v1758 c8_i32_1058
  let v1764 : BitVec 32 := v1763
  let c0_i32_1059 : BitVec 32 := 0#32
  ![v1759.toNat, v1764.toNat, 0]
def k0_off2525 (v1761 : BitVec 32) : Fin 2 → Nat :=
  let v1762 : BitVec 32 := v1761
  let c0_i32_1060 : BitVec 32 := 0#32
  ![v1762.toNat, 0]

def k0_chk627 (i : grid0.Coords) (v1761 : BitVec 32) : Prop :=
  (∀ (k0_h3 : k0_cond3 i = 1#1), 8 ∣ (k0_mult1253 v1761).toNat) ∧
  (∀ (k0_h3 : k0_cond3 i = 1#1), ∀ a, (k0_off2525 v1761) a + S8x128.size a ≤ S131072x128.size a)
theorem k0_mult1253_dvd : ∀ (i : grid0.Coords) (v1761 : BitVec 32) (k0_hw627 : k0_chk627 i v1761), ∀ (k0_h3 : k0_cond3 i = 1#1), 8 ∣ (k0_mult1253 v1761).toNat := fun i v1761 k0_hw627 k0_h3 => k0_hw627.1 k0_h3
theorem k0_off2525_inb : ∀ (i : grid0.Coords) (v1761 : BitVec 32) (k0_hw627 : k0_chk627 i v1761), ∀ (k0_h3 : k0_cond3 i = 1#1), ∀ a, (k0_off2525 v1761) a + S8x128.size a ≤ S131072x128.size a := fun i v1761 k0_hw627 k0_h3 => k0_hw627.2 k0_h3

def k0_off2526 (i : grid0.Coords) : Fin 3 → Nat :=
  let c0_1065 : Index := 0#32
  let c0_1066 : Index := 0#32
  let arg1 : BitVec 32 := BitVec.ofNat 32 (i 1).val
  let c2_i32_1061 : BitVec 32 := 2#32
  let v1770 : BitVec 32 := Scalar.muli arg1 c2_i32_1061
  let c0_i32_1062 : BitVec 32 := 0#32
  let v1771 : BitVec 32 := Scalar.addi v1770 c0_i32_1062
  let c256_i32_1063 : BitVec 32 := 256#32
  let v1772 : BitVec 32 := Scalar.muli v1771 c256_i32_1063
  let c114_i32 : BitVec 32 := 114#32
  let v1773 : BitVec 32 := Scalar.addi v1772 c114_i32
  let v1775 : Index := Scalar.indexCast v1773
  ![0, 0, v1775.toNat]
def k0_mult1255 (v1776 : BitVec 32) : BitVec 32 :=
  v1776

def k0_mult1256 (i : grid0.Coords) : BitVec 32 :=
  let arg1 : BitVec 32 := BitVec.ofNat 32 (i 1).val
  let c2_i32_1061 : BitVec 32 := 2#32
  let v1770 : BitVec 32 := Scalar.muli arg1 c2_i32_1061
  let c0_i32_1062 : BitVec 32 := 0#32
  let v1771 : BitVec 32 := Scalar.addi v1770 c0_i32_1062
  let c256_i32_1063 : BitVec 32 := 256#32
  let v1772 : BitVec 32 := Scalar.muli v1771 c256_i32_1063
  let c114_i32 : BitVec 32 := 114#32
  let v1773 : BitVec 32 := Scalar.addi v1772 c114_i32
  let c8_i32_1067 : BitVec 32 := 8#32
  let v1778 : BitVec 32 := Scalar.muli v1773 c8_i32_1067
  v1778
def k0_off2527 (i : grid0.Coords) : Fin 1 → Nat :=
  let c1_i32_1064 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1774 : BitVec 32 := Scalar.subi c1_i32_1064 v9
  ![v1774.toNat]
def k0_off2528 (i : grid0.Coords) : Fin 3 → Nat :=
  let c1_i32_1064 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1774 : BitVec 32 := Scalar.subi c1_i32_1064 v9
  let arg1 : BitVec 32 := BitVec.ofNat 32 (i 1).val
  let c2_i32_1061 : BitVec 32 := 2#32
  let v1770 : BitVec 32 := Scalar.muli arg1 c2_i32_1061
  let c0_i32_1062 : BitVec 32 := 0#32
  let v1771 : BitVec 32 := Scalar.addi v1770 c0_i32_1062
  let c256_i32_1063 : BitVec 32 := 256#32
  let v1772 : BitVec 32 := Scalar.muli v1771 c256_i32_1063
  let c114_i32 : BitVec 32 := 114#32
  let v1773 : BitVec 32 := Scalar.addi v1772 c114_i32
  let c8_i32_1067 : BitVec 32 := 8#32
  let v1778 : BitVec 32 := Scalar.muli v1773 c8_i32_1067
  let v1779 : BitVec 32 := v1778
  let c0_i32_1068 : BitVec 32 := 0#32
  ![v1774.toNat, v1779.toNat, 0]
def k0_off2529 (v1776 : BitVec 32) : Fin 2 → Nat :=
  let v1777 : BitVec 32 := v1776
  let c0_i32_1069 : BitVec 32 := 0#32
  ![v1777.toNat, 0]

def k0_chk628 (i : grid0.Coords) (v1776 : BitVec 32) : Prop :=
  (∀ (k0_h3 : k0_cond3 i = 1#1), 8 ∣ (k0_mult1255 v1776).toNat) ∧
  (∀ (k0_h3 : k0_cond3 i = 1#1), ∀ a, (k0_off2529 v1776) a + S8x128.size a ≤ S131072x128.size a)
theorem k0_mult1255_dvd : ∀ (i : grid0.Coords) (v1776 : BitVec 32) (k0_hw628 : k0_chk628 i v1776), ∀ (k0_h3 : k0_cond3 i = 1#1), 8 ∣ (k0_mult1255 v1776).toNat := fun i v1776 k0_hw628 k0_h3 => k0_hw628.1 k0_h3
theorem k0_off2529_inb : ∀ (i : grid0.Coords) (v1776 : BitVec 32) (k0_hw628 : k0_chk628 i v1776), ∀ (k0_h3 : k0_cond3 i = 1#1), ∀ a, (k0_off2529 v1776) a + S8x128.size a ≤ S131072x128.size a := fun i v1776 k0_hw628 k0_h3 => k0_hw628.2 k0_h3

def k0_off2530 (i : grid0.Coords) : Fin 3 → Nat :=
  let c0_1074 : Index := 0#32
  let c0_1075 : Index := 0#32
  let arg1 : BitVec 32 := BitVec.ofNat 32 (i 1).val
  let c2_i32_1070 : BitVec 32 := 2#32
  let v1785 : BitVec 32 := Scalar.muli arg1 c2_i32_1070
  let c0_i32_1071 : BitVec 32 := 0#32
  let v1786 : BitVec 32 := Scalar.addi v1785 c0_i32_1071
  let c256_i32_1072 : BitVec 32 := 256#32
  let v1787 : BitVec 32 := Scalar.muli v1786 c256_i32_1072
  let c115_i32 : BitVec 32 := 115#32
  let v1788 : BitVec 32 := Scalar.addi v1787 c115_i32
  let v1790 : Index := Scalar.indexCast v1788
  ![0, 0, v1790.toNat]
def k0_mult1257 (v1791 : BitVec 32) : BitVec 32 :=
  v1791

def k0_mult1258 (i : grid0.Coords) : BitVec 32 :=
  let arg1 : BitVec 32 := BitVec.ofNat 32 (i 1).val
  let c2_i32_1070 : BitVec 32 := 2#32
  let v1785 : BitVec 32 := Scalar.muli arg1 c2_i32_1070
  let c0_i32_1071 : BitVec 32 := 0#32
  let v1786 : BitVec 32 := Scalar.addi v1785 c0_i32_1071
  let c256_i32_1072 : BitVec 32 := 256#32
  let v1787 : BitVec 32 := Scalar.muli v1786 c256_i32_1072
  let c115_i32 : BitVec 32 := 115#32
  let v1788 : BitVec 32 := Scalar.addi v1787 c115_i32
  let c8_i32_1076 : BitVec 32 := 8#32
  let v1793 : BitVec 32 := Scalar.muli v1788 c8_i32_1076
  v1793
def k0_off2531 (i : grid0.Coords) : Fin 1 → Nat :=
  let c1_i32_1073 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1789 : BitVec 32 := Scalar.subi c1_i32_1073 v9
  ![v1789.toNat]
def k0_off2532 (i : grid0.Coords) : Fin 3 → Nat :=
  let c1_i32_1073 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1789 : BitVec 32 := Scalar.subi c1_i32_1073 v9
  let arg1 : BitVec 32 := BitVec.ofNat 32 (i 1).val
  let c2_i32_1070 : BitVec 32 := 2#32
  let v1785 : BitVec 32 := Scalar.muli arg1 c2_i32_1070
  let c0_i32_1071 : BitVec 32 := 0#32
  let v1786 : BitVec 32 := Scalar.addi v1785 c0_i32_1071
  let c256_i32_1072 : BitVec 32 := 256#32
  let v1787 : BitVec 32 := Scalar.muli v1786 c256_i32_1072
  let c115_i32 : BitVec 32 := 115#32
  let v1788 : BitVec 32 := Scalar.addi v1787 c115_i32
  let c8_i32_1076 : BitVec 32 := 8#32
  let v1793 : BitVec 32 := Scalar.muli v1788 c8_i32_1076
  let v1794 : BitVec 32 := v1793
  let c0_i32_1077 : BitVec 32 := 0#32
  ![v1789.toNat, v1794.toNat, 0]
def k0_off2533 (v1791 : BitVec 32) : Fin 2 → Nat :=
  let v1792 : BitVec 32 := v1791
  let c0_i32_1078 : BitVec 32 := 0#32
  ![v1792.toNat, 0]

def k0_chk629 (i : grid0.Coords) (v1791 : BitVec 32) : Prop :=
  (∀ (k0_h3 : k0_cond3 i = 1#1), 8 ∣ (k0_mult1257 v1791).toNat) ∧
  (∀ (k0_h3 : k0_cond3 i = 1#1), ∀ a, (k0_off2533 v1791) a + S8x128.size a ≤ S131072x128.size a)
theorem k0_mult1257_dvd : ∀ (i : grid0.Coords) (v1791 : BitVec 32) (k0_hw629 : k0_chk629 i v1791), ∀ (k0_h3 : k0_cond3 i = 1#1), 8 ∣ (k0_mult1257 v1791).toNat := fun i v1791 k0_hw629 k0_h3 => k0_hw629.1 k0_h3
theorem k0_off2533_inb : ∀ (i : grid0.Coords) (v1791 : BitVec 32) (k0_hw629 : k0_chk629 i v1791), ∀ (k0_h3 : k0_cond3 i = 1#1), ∀ a, (k0_off2533 v1791) a + S8x128.size a ≤ S131072x128.size a := fun i v1791 k0_hw629 k0_h3 => k0_hw629.2 k0_h3

def k0_off2534 (i : grid0.Coords) : Fin 3 → Nat :=
  let c0_1083 : Index := 0#32
  let c0_1084 : Index := 0#32
  let arg1 : BitVec 32 := BitVec.ofNat 32 (i 1).val
  let c2_i32_1079 : BitVec 32 := 2#32
  let v1800 : BitVec 32 := Scalar.muli arg1 c2_i32_1079
  let c0_i32_1080 : BitVec 32 := 0#32
  let v1801 : BitVec 32 := Scalar.addi v1800 c0_i32_1080
  let c256_i32_1081 : BitVec 32 := 256#32
  let v1802 : BitVec 32 := Scalar.muli v1801 c256_i32_1081
  let c116_i32 : BitVec 32 := 116#32
  let v1803 : BitVec 32 := Scalar.addi v1802 c116_i32
  let v1805 : Index := Scalar.indexCast v1803
  ![0, 0, v1805.toNat]
def k0_mult1259 (v1806 : BitVec 32) : BitVec 32 :=
  v1806

def k0_mult1260 (i : grid0.Coords) : BitVec 32 :=
  let arg1 : BitVec 32 := BitVec.ofNat 32 (i 1).val
  let c2_i32_1079 : BitVec 32 := 2#32
  let v1800 : BitVec 32 := Scalar.muli arg1 c2_i32_1079
  let c0_i32_1080 : BitVec 32 := 0#32
  let v1801 : BitVec 32 := Scalar.addi v1800 c0_i32_1080
  let c256_i32_1081 : BitVec 32 := 256#32
  let v1802 : BitVec 32 := Scalar.muli v1801 c256_i32_1081
  let c116_i32 : BitVec 32 := 116#32
  let v1803 : BitVec 32 := Scalar.addi v1802 c116_i32
  let c8_i32_1085 : BitVec 32 := 8#32
  let v1808 : BitVec 32 := Scalar.muli v1803 c8_i32_1085
  v1808
def k0_off2535 (i : grid0.Coords) : Fin 1 → Nat :=
  let c1_i32_1082 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1804 : BitVec 32 := Scalar.subi c1_i32_1082 v9
  ![v1804.toNat]
def k0_off2536 (i : grid0.Coords) : Fin 3 → Nat :=
  let c1_i32_1082 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1804 : BitVec 32 := Scalar.subi c1_i32_1082 v9
  let arg1 : BitVec 32 := BitVec.ofNat 32 (i 1).val
  let c2_i32_1079 : BitVec 32 := 2#32
  let v1800 : BitVec 32 := Scalar.muli arg1 c2_i32_1079
  let c0_i32_1080 : BitVec 32 := 0#32
  let v1801 : BitVec 32 := Scalar.addi v1800 c0_i32_1080
  let c256_i32_1081 : BitVec 32 := 256#32
  let v1802 : BitVec 32 := Scalar.muli v1801 c256_i32_1081
  let c116_i32 : BitVec 32 := 116#32
  let v1803 : BitVec 32 := Scalar.addi v1802 c116_i32
  let c8_i32_1085 : BitVec 32 := 8#32
  let v1808 : BitVec 32 := Scalar.muli v1803 c8_i32_1085
  let v1809 : BitVec 32 := v1808
  let c0_i32_1086 : BitVec 32 := 0#32
  ![v1804.toNat, v1809.toNat, 0]
def k0_off2537 (v1806 : BitVec 32) : Fin 2 → Nat :=
  let v1807 : BitVec 32 := v1806
  let c0_i32_1087 : BitVec 32 := 0#32
  ![v1807.toNat, 0]

def k0_chk630 (i : grid0.Coords) (v1806 : BitVec 32) : Prop :=
  (∀ (k0_h3 : k0_cond3 i = 1#1), 8 ∣ (k0_mult1259 v1806).toNat) ∧
  (∀ (k0_h3 : k0_cond3 i = 1#1), ∀ a, (k0_off2537 v1806) a + S8x128.size a ≤ S131072x128.size a)
theorem k0_mult1259_dvd : ∀ (i : grid0.Coords) (v1806 : BitVec 32) (k0_hw630 : k0_chk630 i v1806), ∀ (k0_h3 : k0_cond3 i = 1#1), 8 ∣ (k0_mult1259 v1806).toNat := fun i v1806 k0_hw630 k0_h3 => k0_hw630.1 k0_h3
theorem k0_off2537_inb : ∀ (i : grid0.Coords) (v1806 : BitVec 32) (k0_hw630 : k0_chk630 i v1806), ∀ (k0_h3 : k0_cond3 i = 1#1), ∀ a, (k0_off2537 v1806) a + S8x128.size a ≤ S131072x128.size a := fun i v1806 k0_hw630 k0_h3 => k0_hw630.2 k0_h3

def k0_off2538 (i : grid0.Coords) : Fin 3 → Nat :=
  let c0_1092 : Index := 0#32
  let c0_1093 : Index := 0#32
  let arg1 : BitVec 32 := BitVec.ofNat 32 (i 1).val
  let c2_i32_1088 : BitVec 32 := 2#32
  let v1815 : BitVec 32 := Scalar.muli arg1 c2_i32_1088
  let c0_i32_1089 : BitVec 32 := 0#32
  let v1816 : BitVec 32 := Scalar.addi v1815 c0_i32_1089
  let c256_i32_1090 : BitVec 32 := 256#32
  let v1817 : BitVec 32 := Scalar.muli v1816 c256_i32_1090
  let c117_i32 : BitVec 32 := 117#32
  let v1818 : BitVec 32 := Scalar.addi v1817 c117_i32
  let v1820 : Index := Scalar.indexCast v1818
  ![0, 0, v1820.toNat]
def k0_mult1261 (v1821 : BitVec 32) : BitVec 32 :=
  v1821

def k0_mult1262 (i : grid0.Coords) : BitVec 32 :=
  let arg1 : BitVec 32 := BitVec.ofNat 32 (i 1).val
  let c2_i32_1088 : BitVec 32 := 2#32
  let v1815 : BitVec 32 := Scalar.muli arg1 c2_i32_1088
  let c0_i32_1089 : BitVec 32 := 0#32
  let v1816 : BitVec 32 := Scalar.addi v1815 c0_i32_1089
  let c256_i32_1090 : BitVec 32 := 256#32
  let v1817 : BitVec 32 := Scalar.muli v1816 c256_i32_1090
  let c117_i32 : BitVec 32 := 117#32
  let v1818 : BitVec 32 := Scalar.addi v1817 c117_i32
  let c8_i32_1094 : BitVec 32 := 8#32
  let v1823 : BitVec 32 := Scalar.muli v1818 c8_i32_1094
  v1823
def k0_off2539 (i : grid0.Coords) : Fin 1 → Nat :=
  let c1_i32_1091 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1819 : BitVec 32 := Scalar.subi c1_i32_1091 v9
  ![v1819.toNat]
def k0_off2540 (i : grid0.Coords) : Fin 3 → Nat :=
  let c1_i32_1091 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1819 : BitVec 32 := Scalar.subi c1_i32_1091 v9
  let arg1 : BitVec 32 := BitVec.ofNat 32 (i 1).val
  let c2_i32_1088 : BitVec 32 := 2#32
  let v1815 : BitVec 32 := Scalar.muli arg1 c2_i32_1088
  let c0_i32_1089 : BitVec 32 := 0#32
  let v1816 : BitVec 32 := Scalar.addi v1815 c0_i32_1089
  let c256_i32_1090 : BitVec 32 := 256#32
  let v1817 : BitVec 32 := Scalar.muli v1816 c256_i32_1090
  let c117_i32 : BitVec 32 := 117#32
  let v1818 : BitVec 32 := Scalar.addi v1817 c117_i32
  let c8_i32_1094 : BitVec 32 := 8#32
  let v1823 : BitVec 32 := Scalar.muli v1818 c8_i32_1094
  let v1824 : BitVec 32 := v1823
  let c0_i32_1095 : BitVec 32 := 0#32
  ![v1819.toNat, v1824.toNat, 0]
def k0_off2541 (v1821 : BitVec 32) : Fin 2 → Nat :=
  let v1822 : BitVec 32 := v1821
  let c0_i32_1096 : BitVec 32 := 0#32
  ![v1822.toNat, 0]

def k0_chk631 (i : grid0.Coords) (v1821 : BitVec 32) : Prop :=
  (∀ (k0_h3 : k0_cond3 i = 1#1), 8 ∣ (k0_mult1261 v1821).toNat) ∧
  (∀ (k0_h3 : k0_cond3 i = 1#1), ∀ a, (k0_off2541 v1821) a + S8x128.size a ≤ S131072x128.size a)
theorem k0_mult1261_dvd : ∀ (i : grid0.Coords) (v1821 : BitVec 32) (k0_hw631 : k0_chk631 i v1821), ∀ (k0_h3 : k0_cond3 i = 1#1), 8 ∣ (k0_mult1261 v1821).toNat := fun i v1821 k0_hw631 k0_h3 => k0_hw631.1 k0_h3
theorem k0_off2541_inb : ∀ (i : grid0.Coords) (v1821 : BitVec 32) (k0_hw631 : k0_chk631 i v1821), ∀ (k0_h3 : k0_cond3 i = 1#1), ∀ a, (k0_off2541 v1821) a + S8x128.size a ≤ S131072x128.size a := fun i v1821 k0_hw631 k0_h3 => k0_hw631.2 k0_h3

def k0_off2542 (i : grid0.Coords) : Fin 3 → Nat :=
  let c0_1101 : Index := 0#32
  let c0_1102 : Index := 0#32
  let arg1 : BitVec 32 := BitVec.ofNat 32 (i 1).val
  let c2_i32_1097 : BitVec 32 := 2#32
  let v1830 : BitVec 32 := Scalar.muli arg1 c2_i32_1097
  let c0_i32_1098 : BitVec 32 := 0#32
  let v1831 : BitVec 32 := Scalar.addi v1830 c0_i32_1098
  let c256_i32_1099 : BitVec 32 := 256#32
  let v1832 : BitVec 32 := Scalar.muli v1831 c256_i32_1099
  let c118_i32 : BitVec 32 := 118#32
  let v1833 : BitVec 32 := Scalar.addi v1832 c118_i32
  let v1835 : Index := Scalar.indexCast v1833
  ![0, 0, v1835.toNat]
def k0_mult1263 (v1836 : BitVec 32) : BitVec 32 :=
  v1836

def k0_mult1264 (i : grid0.Coords) : BitVec 32 :=
  let arg1 : BitVec 32 := BitVec.ofNat 32 (i 1).val
  let c2_i32_1097 : BitVec 32 := 2#32
  let v1830 : BitVec 32 := Scalar.muli arg1 c2_i32_1097
  let c0_i32_1098 : BitVec 32 := 0#32
  let v1831 : BitVec 32 := Scalar.addi v1830 c0_i32_1098
  let c256_i32_1099 : BitVec 32 := 256#32
  let v1832 : BitVec 32 := Scalar.muli v1831 c256_i32_1099
  let c118_i32 : BitVec 32 := 118#32
  let v1833 : BitVec 32 := Scalar.addi v1832 c118_i32
  let c8_i32_1103 : BitVec 32 := 8#32
  let v1838 : BitVec 32 := Scalar.muli v1833 c8_i32_1103
  v1838
def k0_off2543 (i : grid0.Coords) : Fin 1 → Nat :=
  let c1_i32_1100 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1834 : BitVec 32 := Scalar.subi c1_i32_1100 v9
  ![v1834.toNat]
def k0_off2544 (i : grid0.Coords) : Fin 3 → Nat :=
  let c1_i32_1100 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1834 : BitVec 32 := Scalar.subi c1_i32_1100 v9
  let arg1 : BitVec 32 := BitVec.ofNat 32 (i 1).val
  let c2_i32_1097 : BitVec 32 := 2#32
  let v1830 : BitVec 32 := Scalar.muli arg1 c2_i32_1097
  let c0_i32_1098 : BitVec 32 := 0#32
  let v1831 : BitVec 32 := Scalar.addi v1830 c0_i32_1098
  let c256_i32_1099 : BitVec 32 := 256#32
  let v1832 : BitVec 32 := Scalar.muli v1831 c256_i32_1099
  let c118_i32 : BitVec 32 := 118#32
  let v1833 : BitVec 32 := Scalar.addi v1832 c118_i32
  let c8_i32_1103 : BitVec 32 := 8#32
  let v1838 : BitVec 32 := Scalar.muli v1833 c8_i32_1103
  let v1839 : BitVec 32 := v1838
  let c0_i32_1104 : BitVec 32 := 0#32
  ![v1834.toNat, v1839.toNat, 0]
def k0_off2545 (v1836 : BitVec 32) : Fin 2 → Nat :=
  let v1837 : BitVec 32 := v1836
  let c0_i32_1105 : BitVec 32 := 0#32
  ![v1837.toNat, 0]

def k0_chk632 (i : grid0.Coords) (v1836 : BitVec 32) : Prop :=
  (∀ (k0_h3 : k0_cond3 i = 1#1), 8 ∣ (k0_mult1263 v1836).toNat) ∧
  (∀ (k0_h3 : k0_cond3 i = 1#1), ∀ a, (k0_off2545 v1836) a + S8x128.size a ≤ S131072x128.size a)
theorem k0_mult1263_dvd : ∀ (i : grid0.Coords) (v1836 : BitVec 32) (k0_hw632 : k0_chk632 i v1836), ∀ (k0_h3 : k0_cond3 i = 1#1), 8 ∣ (k0_mult1263 v1836).toNat := fun i v1836 k0_hw632 k0_h3 => k0_hw632.1 k0_h3
theorem k0_off2545_inb : ∀ (i : grid0.Coords) (v1836 : BitVec 32) (k0_hw632 : k0_chk632 i v1836), ∀ (k0_h3 : k0_cond3 i = 1#1), ∀ a, (k0_off2545 v1836) a + S8x128.size a ≤ S131072x128.size a := fun i v1836 k0_hw632 k0_h3 => k0_hw632.2 k0_h3

def k0_off2546 (i : grid0.Coords) : Fin 3 → Nat :=
  let c0_1110 : Index := 0#32
  let c0_1111 : Index := 0#32
  let arg1 : BitVec 32 := BitVec.ofNat 32 (i 1).val
  let c2_i32_1106 : BitVec 32 := 2#32
  let v1845 : BitVec 32 := Scalar.muli arg1 c2_i32_1106
  let c0_i32_1107 : BitVec 32 := 0#32
  let v1846 : BitVec 32 := Scalar.addi v1845 c0_i32_1107
  let c256_i32_1108 : BitVec 32 := 256#32
  let v1847 : BitVec 32 := Scalar.muli v1846 c256_i32_1108
  let c119_i32 : BitVec 32 := 119#32
  let v1848 : BitVec 32 := Scalar.addi v1847 c119_i32
  let v1850 : Index := Scalar.indexCast v1848
  ![0, 0, v1850.toNat]
def k0_mult1265 (v1851 : BitVec 32) : BitVec 32 :=
  v1851

def k0_mult1266 (i : grid0.Coords) : BitVec 32 :=
  let arg1 : BitVec 32 := BitVec.ofNat 32 (i 1).val
  let c2_i32_1106 : BitVec 32 := 2#32
  let v1845 : BitVec 32 := Scalar.muli arg1 c2_i32_1106
  let c0_i32_1107 : BitVec 32 := 0#32
  let v1846 : BitVec 32 := Scalar.addi v1845 c0_i32_1107
  let c256_i32_1108 : BitVec 32 := 256#32
  let v1847 : BitVec 32 := Scalar.muli v1846 c256_i32_1108
  let c119_i32 : BitVec 32 := 119#32
  let v1848 : BitVec 32 := Scalar.addi v1847 c119_i32
  let c8_i32_1112 : BitVec 32 := 8#32
  let v1853 : BitVec 32 := Scalar.muli v1848 c8_i32_1112
  v1853
def k0_off2547 (i : grid0.Coords) : Fin 1 → Nat :=
  let c1_i32_1109 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1849 : BitVec 32 := Scalar.subi c1_i32_1109 v9
  ![v1849.toNat]
def k0_off2548 (i : grid0.Coords) : Fin 3 → Nat :=
  let c1_i32_1109 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1849 : BitVec 32 := Scalar.subi c1_i32_1109 v9
  let arg1 : BitVec 32 := BitVec.ofNat 32 (i 1).val
  let c2_i32_1106 : BitVec 32 := 2#32
  let v1845 : BitVec 32 := Scalar.muli arg1 c2_i32_1106
  let c0_i32_1107 : BitVec 32 := 0#32
  let v1846 : BitVec 32 := Scalar.addi v1845 c0_i32_1107
  let c256_i32_1108 : BitVec 32 := 256#32
  let v1847 : BitVec 32 := Scalar.muli v1846 c256_i32_1108
  let c119_i32 : BitVec 32 := 119#32
  let v1848 : BitVec 32 := Scalar.addi v1847 c119_i32
  let c8_i32_1112 : BitVec 32 := 8#32
  let v1853 : BitVec 32 := Scalar.muli v1848 c8_i32_1112
  let v1854 : BitVec 32 := v1853
  let c0_i32_1113 : BitVec 32 := 0#32
  ![v1849.toNat, v1854.toNat, 0]
def k0_off2549 (v1851 : BitVec 32) : Fin 2 → Nat :=
  let v1852 : BitVec 32 := v1851
  let c0_i32_1114 : BitVec 32 := 0#32
  ![v1852.toNat, 0]

def k0_chk633 (i : grid0.Coords) (v1851 : BitVec 32) : Prop :=
  (∀ (k0_h3 : k0_cond3 i = 1#1), 8 ∣ (k0_mult1265 v1851).toNat) ∧
  (∀ (k0_h3 : k0_cond3 i = 1#1), ∀ a, (k0_off2549 v1851) a + S8x128.size a ≤ S131072x128.size a)
theorem k0_mult1265_dvd : ∀ (i : grid0.Coords) (v1851 : BitVec 32) (k0_hw633 : k0_chk633 i v1851), ∀ (k0_h3 : k0_cond3 i = 1#1), 8 ∣ (k0_mult1265 v1851).toNat := fun i v1851 k0_hw633 k0_h3 => k0_hw633.1 k0_h3
theorem k0_off2549_inb : ∀ (i : grid0.Coords) (v1851 : BitVec 32) (k0_hw633 : k0_chk633 i v1851), ∀ (k0_h3 : k0_cond3 i = 1#1), ∀ a, (k0_off2549 v1851) a + S8x128.size a ≤ S131072x128.size a := fun i v1851 k0_hw633 k0_h3 => k0_hw633.2 k0_h3

def k0_off2550 (i : grid0.Coords) : Fin 3 → Nat :=
  let c0_1119 : Index := 0#32
  let c0_1120 : Index := 0#32
  let arg1 : BitVec 32 := BitVec.ofNat 32 (i 1).val
  let c2_i32_1115 : BitVec 32 := 2#32
  let v1860 : BitVec 32 := Scalar.muli arg1 c2_i32_1115
  let c0_i32_1116 : BitVec 32 := 0#32
  let v1861 : BitVec 32 := Scalar.addi v1860 c0_i32_1116
  let c256_i32_1117 : BitVec 32 := 256#32
  let v1862 : BitVec 32 := Scalar.muli v1861 c256_i32_1117
  let c120_i32 : BitVec 32 := 120#32
  let v1863 : BitVec 32 := Scalar.addi v1862 c120_i32
  let v1865 : Index := Scalar.indexCast v1863
  ![0, 0, v1865.toNat]
def k0_mult1267 (v1866 : BitVec 32) : BitVec 32 :=
  v1866

def k0_mult1268 (i : grid0.Coords) : BitVec 32 :=
  let arg1 : BitVec 32 := BitVec.ofNat 32 (i 1).val
  let c2_i32_1115 : BitVec 32 := 2#32
  let v1860 : BitVec 32 := Scalar.muli arg1 c2_i32_1115
  let c0_i32_1116 : BitVec 32 := 0#32
  let v1861 : BitVec 32 := Scalar.addi v1860 c0_i32_1116
  let c256_i32_1117 : BitVec 32 := 256#32
  let v1862 : BitVec 32 := Scalar.muli v1861 c256_i32_1117
  let c120_i32 : BitVec 32 := 120#32
  let v1863 : BitVec 32 := Scalar.addi v1862 c120_i32
  let c8_i32_1121 : BitVec 32 := 8#32
  let v1868 : BitVec 32 := Scalar.muli v1863 c8_i32_1121
  v1868
def k0_off2551 (i : grid0.Coords) : Fin 1 → Nat :=
  let c1_i32_1118 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1864 : BitVec 32 := Scalar.subi c1_i32_1118 v9
  ![v1864.toNat]
def k0_off2552 (i : grid0.Coords) : Fin 3 → Nat :=
  let c1_i32_1118 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1864 : BitVec 32 := Scalar.subi c1_i32_1118 v9
  let arg1 : BitVec 32 := BitVec.ofNat 32 (i 1).val
  let c2_i32_1115 : BitVec 32 := 2#32
  let v1860 : BitVec 32 := Scalar.muli arg1 c2_i32_1115
  let c0_i32_1116 : BitVec 32 := 0#32
  let v1861 : BitVec 32 := Scalar.addi v1860 c0_i32_1116
  let c256_i32_1117 : BitVec 32 := 256#32
  let v1862 : BitVec 32 := Scalar.muli v1861 c256_i32_1117
  let c120_i32 : BitVec 32 := 120#32
  let v1863 : BitVec 32 := Scalar.addi v1862 c120_i32
  let c8_i32_1121 : BitVec 32 := 8#32
  let v1868 : BitVec 32 := Scalar.muli v1863 c8_i32_1121
  let v1869 : BitVec 32 := v1868
  let c0_i32_1122 : BitVec 32 := 0#32
  ![v1864.toNat, v1869.toNat, 0]
def k0_off2553 (v1866 : BitVec 32) : Fin 2 → Nat :=
  let v1867 : BitVec 32 := v1866
  let c0_i32_1123 : BitVec 32 := 0#32
  ![v1867.toNat, 0]

def k0_chk634 (i : grid0.Coords) (v1866 : BitVec 32) : Prop :=
  (∀ (k0_h3 : k0_cond3 i = 1#1), 8 ∣ (k0_mult1267 v1866).toNat) ∧
  (∀ (k0_h3 : k0_cond3 i = 1#1), ∀ a, (k0_off2553 v1866) a + S8x128.size a ≤ S131072x128.size a)
theorem k0_mult1267_dvd : ∀ (i : grid0.Coords) (v1866 : BitVec 32) (k0_hw634 : k0_chk634 i v1866), ∀ (k0_h3 : k0_cond3 i = 1#1), 8 ∣ (k0_mult1267 v1866).toNat := fun i v1866 k0_hw634 k0_h3 => k0_hw634.1 k0_h3
theorem k0_off2553_inb : ∀ (i : grid0.Coords) (v1866 : BitVec 32) (k0_hw634 : k0_chk634 i v1866), ∀ (k0_h3 : k0_cond3 i = 1#1), ∀ a, (k0_off2553 v1866) a + S8x128.size a ≤ S131072x128.size a := fun i v1866 k0_hw634 k0_h3 => k0_hw634.2 k0_h3

def k0_off2554 (i : grid0.Coords) : Fin 3 → Nat :=
  let c0_1128 : Index := 0#32
  let c0_1129 : Index := 0#32
  let arg1 : BitVec 32 := BitVec.ofNat 32 (i 1).val
  let c2_i32_1124 : BitVec 32 := 2#32
  let v1875 : BitVec 32 := Scalar.muli arg1 c2_i32_1124
  let c0_i32_1125 : BitVec 32 := 0#32
  let v1876 : BitVec 32 := Scalar.addi v1875 c0_i32_1125
  let c256_i32_1126 : BitVec 32 := 256#32
  let v1877 : BitVec 32 := Scalar.muli v1876 c256_i32_1126
  let c121_i32 : BitVec 32 := 121#32
  let v1878 : BitVec 32 := Scalar.addi v1877 c121_i32
  let v1880 : Index := Scalar.indexCast v1878
  ![0, 0, v1880.toNat]
def k0_mult1269 (v1881 : BitVec 32) : BitVec 32 :=
  v1881

def k0_mult1270 (i : grid0.Coords) : BitVec 32 :=
  let arg1 : BitVec 32 := BitVec.ofNat 32 (i 1).val
  let c2_i32_1124 : BitVec 32 := 2#32
  let v1875 : BitVec 32 := Scalar.muli arg1 c2_i32_1124
  let c0_i32_1125 : BitVec 32 := 0#32
  let v1876 : BitVec 32 := Scalar.addi v1875 c0_i32_1125
  let c256_i32_1126 : BitVec 32 := 256#32
  let v1877 : BitVec 32 := Scalar.muli v1876 c256_i32_1126
  let c121_i32 : BitVec 32 := 121#32
  let v1878 : BitVec 32 := Scalar.addi v1877 c121_i32
  let c8_i32_1130 : BitVec 32 := 8#32
  let v1883 : BitVec 32 := Scalar.muli v1878 c8_i32_1130
  v1883
def k0_off2555 (i : grid0.Coords) : Fin 1 → Nat :=
  let c1_i32_1127 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1879 : BitVec 32 := Scalar.subi c1_i32_1127 v9
  ![v1879.toNat]
def k0_off2556 (i : grid0.Coords) : Fin 3 → Nat :=
  let c1_i32_1127 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1879 : BitVec 32 := Scalar.subi c1_i32_1127 v9
  let arg1 : BitVec 32 := BitVec.ofNat 32 (i 1).val
  let c2_i32_1124 : BitVec 32 := 2#32
  let v1875 : BitVec 32 := Scalar.muli arg1 c2_i32_1124
  let c0_i32_1125 : BitVec 32 := 0#32
  let v1876 : BitVec 32 := Scalar.addi v1875 c0_i32_1125
  let c256_i32_1126 : BitVec 32 := 256#32
  let v1877 : BitVec 32 := Scalar.muli v1876 c256_i32_1126
  let c121_i32 : BitVec 32 := 121#32
  let v1878 : BitVec 32 := Scalar.addi v1877 c121_i32
  let c8_i32_1130 : BitVec 32 := 8#32
  let v1883 : BitVec 32 := Scalar.muli v1878 c8_i32_1130
  let v1884 : BitVec 32 := v1883
  let c0_i32_1131 : BitVec 32 := 0#32
  ![v1879.toNat, v1884.toNat, 0]
def k0_off2557 (v1881 : BitVec 32) : Fin 2 → Nat :=
  let v1882 : BitVec 32 := v1881
  let c0_i32_1132 : BitVec 32 := 0#32
  ![v1882.toNat, 0]

def k0_chk635 (i : grid0.Coords) (v1881 : BitVec 32) : Prop :=
  (∀ (k0_h3 : k0_cond3 i = 1#1), 8 ∣ (k0_mult1269 v1881).toNat) ∧
  (∀ (k0_h3 : k0_cond3 i = 1#1), ∀ a, (k0_off2557 v1881) a + S8x128.size a ≤ S131072x128.size a)
theorem k0_mult1269_dvd : ∀ (i : grid0.Coords) (v1881 : BitVec 32) (k0_hw635 : k0_chk635 i v1881), ∀ (k0_h3 : k0_cond3 i = 1#1), 8 ∣ (k0_mult1269 v1881).toNat := fun i v1881 k0_hw635 k0_h3 => k0_hw635.1 k0_h3
theorem k0_off2557_inb : ∀ (i : grid0.Coords) (v1881 : BitVec 32) (k0_hw635 : k0_chk635 i v1881), ∀ (k0_h3 : k0_cond3 i = 1#1), ∀ a, (k0_off2557 v1881) a + S8x128.size a ≤ S131072x128.size a := fun i v1881 k0_hw635 k0_h3 => k0_hw635.2 k0_h3

def k0_off2558 (i : grid0.Coords) : Fin 3 → Nat :=
  let c0_1137 : Index := 0#32
  let c0_1138 : Index := 0#32
  let arg1 : BitVec 32 := BitVec.ofNat 32 (i 1).val
  let c2_i32_1133 : BitVec 32 := 2#32
  let v1890 : BitVec 32 := Scalar.muli arg1 c2_i32_1133
  let c0_i32_1134 : BitVec 32 := 0#32
  let v1891 : BitVec 32 := Scalar.addi v1890 c0_i32_1134
  let c256_i32_1135 : BitVec 32 := 256#32
  let v1892 : BitVec 32 := Scalar.muli v1891 c256_i32_1135
  let c122_i32 : BitVec 32 := 122#32
  let v1893 : BitVec 32 := Scalar.addi v1892 c122_i32
  let v1895 : Index := Scalar.indexCast v1893
  ![0, 0, v1895.toNat]
def k0_mult1271 (v1896 : BitVec 32) : BitVec 32 :=
  v1896

def k0_mult1272 (i : grid0.Coords) : BitVec 32 :=
  let arg1 : BitVec 32 := BitVec.ofNat 32 (i 1).val
  let c2_i32_1133 : BitVec 32 := 2#32
  let v1890 : BitVec 32 := Scalar.muli arg1 c2_i32_1133
  let c0_i32_1134 : BitVec 32 := 0#32
  let v1891 : BitVec 32 := Scalar.addi v1890 c0_i32_1134
  let c256_i32_1135 : BitVec 32 := 256#32
  let v1892 : BitVec 32 := Scalar.muli v1891 c256_i32_1135
  let c122_i32 : BitVec 32 := 122#32
  let v1893 : BitVec 32 := Scalar.addi v1892 c122_i32
  let c8_i32_1139 : BitVec 32 := 8#32
  let v1898 : BitVec 32 := Scalar.muli v1893 c8_i32_1139
  v1898
def k0_off2559 (i : grid0.Coords) : Fin 1 → Nat :=
  let c1_i32_1136 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1894 : BitVec 32 := Scalar.subi c1_i32_1136 v9
  ![v1894.toNat]
def k0_off2560 (i : grid0.Coords) : Fin 3 → Nat :=
  let c1_i32_1136 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1894 : BitVec 32 := Scalar.subi c1_i32_1136 v9
  let arg1 : BitVec 32 := BitVec.ofNat 32 (i 1).val
  let c2_i32_1133 : BitVec 32 := 2#32
  let v1890 : BitVec 32 := Scalar.muli arg1 c2_i32_1133
  let c0_i32_1134 : BitVec 32 := 0#32
  let v1891 : BitVec 32 := Scalar.addi v1890 c0_i32_1134
  let c256_i32_1135 : BitVec 32 := 256#32
  let v1892 : BitVec 32 := Scalar.muli v1891 c256_i32_1135
  let c122_i32 : BitVec 32 := 122#32
  let v1893 : BitVec 32 := Scalar.addi v1892 c122_i32
  let c8_i32_1139 : BitVec 32 := 8#32
  let v1898 : BitVec 32 := Scalar.muli v1893 c8_i32_1139
  let v1899 : BitVec 32 := v1898
  let c0_i32_1140 : BitVec 32 := 0#32
  ![v1894.toNat, v1899.toNat, 0]
def k0_off2561 (v1896 : BitVec 32) : Fin 2 → Nat :=
  let v1897 : BitVec 32 := v1896
  let c0_i32_1141 : BitVec 32 := 0#32
  ![v1897.toNat, 0]

def k0_chk636 (i : grid0.Coords) (v1896 : BitVec 32) : Prop :=
  (∀ (k0_h3 : k0_cond3 i = 1#1), 8 ∣ (k0_mult1271 v1896).toNat) ∧
  (∀ (k0_h3 : k0_cond3 i = 1#1), ∀ a, (k0_off2561 v1896) a + S8x128.size a ≤ S131072x128.size a)
theorem k0_mult1271_dvd : ∀ (i : grid0.Coords) (v1896 : BitVec 32) (k0_hw636 : k0_chk636 i v1896), ∀ (k0_h3 : k0_cond3 i = 1#1), 8 ∣ (k0_mult1271 v1896).toNat := fun i v1896 k0_hw636 k0_h3 => k0_hw636.1 k0_h3
theorem k0_off2561_inb : ∀ (i : grid0.Coords) (v1896 : BitVec 32) (k0_hw636 : k0_chk636 i v1896), ∀ (k0_h3 : k0_cond3 i = 1#1), ∀ a, (k0_off2561 v1896) a + S8x128.size a ≤ S131072x128.size a := fun i v1896 k0_hw636 k0_h3 => k0_hw636.2 k0_h3

def k0_off2562 (i : grid0.Coords) : Fin 3 → Nat :=
  let c0_1146 : Index := 0#32
  let c0_1147 : Index := 0#32
  let arg1 : BitVec 32 := BitVec.ofNat 32 (i 1).val
  let c2_i32_1142 : BitVec 32 := 2#32
  let v1905 : BitVec 32 := Scalar.muli arg1 c2_i32_1142
  let c0_i32_1143 : BitVec 32 := 0#32
  let v1906 : BitVec 32 := Scalar.addi v1905 c0_i32_1143
  let c256_i32_1144 : BitVec 32 := 256#32
  let v1907 : BitVec 32 := Scalar.muli v1906 c256_i32_1144
  let c123_i32 : BitVec 32 := 123#32
  let v1908 : BitVec 32 := Scalar.addi v1907 c123_i32
  let v1910 : Index := Scalar.indexCast v1908
  ![0, 0, v1910.toNat]
def k0_mult1273 (v1911 : BitVec 32) : BitVec 32 :=
  v1911

def k0_mult1274 (i : grid0.Coords) : BitVec 32 :=
  let arg1 : BitVec 32 := BitVec.ofNat 32 (i 1).val
  let c2_i32_1142 : BitVec 32 := 2#32
  let v1905 : BitVec 32 := Scalar.muli arg1 c2_i32_1142
  let c0_i32_1143 : BitVec 32 := 0#32
  let v1906 : BitVec 32 := Scalar.addi v1905 c0_i32_1143
  let c256_i32_1144 : BitVec 32 := 256#32
  let v1907 : BitVec 32 := Scalar.muli v1906 c256_i32_1144
  let c123_i32 : BitVec 32 := 123#32
  let v1908 : BitVec 32 := Scalar.addi v1907 c123_i32
  let c8_i32_1148 : BitVec 32 := 8#32
  let v1913 : BitVec 32 := Scalar.muli v1908 c8_i32_1148
  v1913
def k0_off2563 (i : grid0.Coords) : Fin 1 → Nat :=
  let c1_i32_1145 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1909 : BitVec 32 := Scalar.subi c1_i32_1145 v9
  ![v1909.toNat]
def k0_off2564 (i : grid0.Coords) : Fin 3 → Nat :=
  let c1_i32_1145 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1909 : BitVec 32 := Scalar.subi c1_i32_1145 v9
  let arg1 : BitVec 32 := BitVec.ofNat 32 (i 1).val
  let c2_i32_1142 : BitVec 32 := 2#32
  let v1905 : BitVec 32 := Scalar.muli arg1 c2_i32_1142
  let c0_i32_1143 : BitVec 32 := 0#32
  let v1906 : BitVec 32 := Scalar.addi v1905 c0_i32_1143
  let c256_i32_1144 : BitVec 32 := 256#32
  let v1907 : BitVec 32 := Scalar.muli v1906 c256_i32_1144
  let c123_i32 : BitVec 32 := 123#32
  let v1908 : BitVec 32 := Scalar.addi v1907 c123_i32
  let c8_i32_1148 : BitVec 32 := 8#32
  let v1913 : BitVec 32 := Scalar.muli v1908 c8_i32_1148
  let v1914 : BitVec 32 := v1913
  let c0_i32_1149 : BitVec 32 := 0#32
  ![v1909.toNat, v1914.toNat, 0]
def k0_off2565 (v1911 : BitVec 32) : Fin 2 → Nat :=
  let v1912 : BitVec 32 := v1911
  let c0_i32_1150 : BitVec 32 := 0#32
  ![v1912.toNat, 0]

def k0_chk637 (i : grid0.Coords) (v1911 : BitVec 32) : Prop :=
  (∀ (k0_h3 : k0_cond3 i = 1#1), 8 ∣ (k0_mult1273 v1911).toNat) ∧
  (∀ (k0_h3 : k0_cond3 i = 1#1), ∀ a, (k0_off2565 v1911) a + S8x128.size a ≤ S131072x128.size a)
theorem k0_mult1273_dvd : ∀ (i : grid0.Coords) (v1911 : BitVec 32) (k0_hw637 : k0_chk637 i v1911), ∀ (k0_h3 : k0_cond3 i = 1#1), 8 ∣ (k0_mult1273 v1911).toNat := fun i v1911 k0_hw637 k0_h3 => k0_hw637.1 k0_h3
theorem k0_off2565_inb : ∀ (i : grid0.Coords) (v1911 : BitVec 32) (k0_hw637 : k0_chk637 i v1911), ∀ (k0_h3 : k0_cond3 i = 1#1), ∀ a, (k0_off2565 v1911) a + S8x128.size a ≤ S131072x128.size a := fun i v1911 k0_hw637 k0_h3 => k0_hw637.2 k0_h3

def k0_off2566 (i : grid0.Coords) : Fin 3 → Nat :=
  let c0_1155 : Index := 0#32
  let c0_1156 : Index := 0#32
  let arg1 : BitVec 32 := BitVec.ofNat 32 (i 1).val
  let c2_i32_1151 : BitVec 32 := 2#32
  let v1920 : BitVec 32 := Scalar.muli arg1 c2_i32_1151
  let c0_i32_1152 : BitVec 32 := 0#32
  let v1921 : BitVec 32 := Scalar.addi v1920 c0_i32_1152
  let c256_i32_1153 : BitVec 32 := 256#32
  let v1922 : BitVec 32 := Scalar.muli v1921 c256_i32_1153
  let c124_i32 : BitVec 32 := 124#32
  let v1923 : BitVec 32 := Scalar.addi v1922 c124_i32
  let v1925 : Index := Scalar.indexCast v1923
  ![0, 0, v1925.toNat]
def k0_mult1275 (v1926 : BitVec 32) : BitVec 32 :=
  v1926

def k0_mult1276 (i : grid0.Coords) : BitVec 32 :=
  let arg1 : BitVec 32 := BitVec.ofNat 32 (i 1).val
  let c2_i32_1151 : BitVec 32 := 2#32
  let v1920 : BitVec 32 := Scalar.muli arg1 c2_i32_1151
  let c0_i32_1152 : BitVec 32 := 0#32
  let v1921 : BitVec 32 := Scalar.addi v1920 c0_i32_1152
  let c256_i32_1153 : BitVec 32 := 256#32
  let v1922 : BitVec 32 := Scalar.muli v1921 c256_i32_1153
  let c124_i32 : BitVec 32 := 124#32
  let v1923 : BitVec 32 := Scalar.addi v1922 c124_i32
  let c8_i32_1157 : BitVec 32 := 8#32
  let v1928 : BitVec 32 := Scalar.muli v1923 c8_i32_1157
  v1928
def k0_off2567 (i : grid0.Coords) : Fin 1 → Nat :=
  let c1_i32_1154 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1924 : BitVec 32 := Scalar.subi c1_i32_1154 v9
  ![v1924.toNat]
def k0_off2568 (i : grid0.Coords) : Fin 3 → Nat :=
  let c1_i32_1154 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1924 : BitVec 32 := Scalar.subi c1_i32_1154 v9
  let arg1 : BitVec 32 := BitVec.ofNat 32 (i 1).val
  let c2_i32_1151 : BitVec 32 := 2#32
  let v1920 : BitVec 32 := Scalar.muli arg1 c2_i32_1151
  let c0_i32_1152 : BitVec 32 := 0#32
  let v1921 : BitVec 32 := Scalar.addi v1920 c0_i32_1152
  let c256_i32_1153 : BitVec 32 := 256#32
  let v1922 : BitVec 32 := Scalar.muli v1921 c256_i32_1153
  let c124_i32 : BitVec 32 := 124#32
  let v1923 : BitVec 32 := Scalar.addi v1922 c124_i32
  let c8_i32_1157 : BitVec 32 := 8#32
  let v1928 : BitVec 32 := Scalar.muli v1923 c8_i32_1157
  let v1929 : BitVec 32 := v1928
  let c0_i32_1158 : BitVec 32 := 0#32
  ![v1924.toNat, v1929.toNat, 0]
def k0_off2569 (v1926 : BitVec 32) : Fin 2 → Nat :=
  let v1927 : BitVec 32 := v1926
  let c0_i32_1159 : BitVec 32 := 0#32
  ![v1927.toNat, 0]

def k0_chk638 (i : grid0.Coords) (v1926 : BitVec 32) : Prop :=
  (∀ (k0_h3 : k0_cond3 i = 1#1), 8 ∣ (k0_mult1275 v1926).toNat) ∧
  (∀ (k0_h3 : k0_cond3 i = 1#1), ∀ a, (k0_off2569 v1926) a + S8x128.size a ≤ S131072x128.size a)
theorem k0_mult1275_dvd : ∀ (i : grid0.Coords) (v1926 : BitVec 32) (k0_hw638 : k0_chk638 i v1926), ∀ (k0_h3 : k0_cond3 i = 1#1), 8 ∣ (k0_mult1275 v1926).toNat := fun i v1926 k0_hw638 k0_h3 => k0_hw638.1 k0_h3
theorem k0_off2569_inb : ∀ (i : grid0.Coords) (v1926 : BitVec 32) (k0_hw638 : k0_chk638 i v1926), ∀ (k0_h3 : k0_cond3 i = 1#1), ∀ a, (k0_off2569 v1926) a + S8x128.size a ≤ S131072x128.size a := fun i v1926 k0_hw638 k0_h3 => k0_hw638.2 k0_h3

def k0_off2570 (i : grid0.Coords) : Fin 3 → Nat :=
  let c0_1164 : Index := 0#32
  let c0_1165 : Index := 0#32
  let arg1 : BitVec 32 := BitVec.ofNat 32 (i 1).val
  let c2_i32_1160 : BitVec 32 := 2#32
  let v1935 : BitVec 32 := Scalar.muli arg1 c2_i32_1160
  let c0_i32_1161 : BitVec 32 := 0#32
  let v1936 : BitVec 32 := Scalar.addi v1935 c0_i32_1161
  let c256_i32_1162 : BitVec 32 := 256#32
  let v1937 : BitVec 32 := Scalar.muli v1936 c256_i32_1162
  let c125_i32 : BitVec 32 := 125#32
  let v1938 : BitVec 32 := Scalar.addi v1937 c125_i32
  let v1940 : Index := Scalar.indexCast v1938
  ![0, 0, v1940.toNat]
def k0_mult1277 (v1941 : BitVec 32) : BitVec 32 :=
  v1941

def k0_mult1278 (i : grid0.Coords) : BitVec 32 :=
  let arg1 : BitVec 32 := BitVec.ofNat 32 (i 1).val
  let c2_i32_1160 : BitVec 32 := 2#32
  let v1935 : BitVec 32 := Scalar.muli arg1 c2_i32_1160
  let c0_i32_1161 : BitVec 32 := 0#32
  let v1936 : BitVec 32 := Scalar.addi v1935 c0_i32_1161
  let c256_i32_1162 : BitVec 32 := 256#32
  let v1937 : BitVec 32 := Scalar.muli v1936 c256_i32_1162
  let c125_i32 : BitVec 32 := 125#32
  let v1938 : BitVec 32 := Scalar.addi v1937 c125_i32
  let c8_i32_1166 : BitVec 32 := 8#32
  let v1943 : BitVec 32 := Scalar.muli v1938 c8_i32_1166
  v1943
def k0_off2571 (i : grid0.Coords) : Fin 1 → Nat :=
  let c1_i32_1163 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1939 : BitVec 32 := Scalar.subi c1_i32_1163 v9
  ![v1939.toNat]
def k0_off2572 (i : grid0.Coords) : Fin 3 → Nat :=
  let c1_i32_1163 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1939 : BitVec 32 := Scalar.subi c1_i32_1163 v9
  let arg1 : BitVec 32 := BitVec.ofNat 32 (i 1).val
  let c2_i32_1160 : BitVec 32 := 2#32
  let v1935 : BitVec 32 := Scalar.muli arg1 c2_i32_1160
  let c0_i32_1161 : BitVec 32 := 0#32
  let v1936 : BitVec 32 := Scalar.addi v1935 c0_i32_1161
  let c256_i32_1162 : BitVec 32 := 256#32
  let v1937 : BitVec 32 := Scalar.muli v1936 c256_i32_1162
  let c125_i32 : BitVec 32 := 125#32
  let v1938 : BitVec 32 := Scalar.addi v1937 c125_i32
  let c8_i32_1166 : BitVec 32 := 8#32
  let v1943 : BitVec 32 := Scalar.muli v1938 c8_i32_1166
  let v1944 : BitVec 32 := v1943
  let c0_i32_1167 : BitVec 32 := 0#32
  ![v1939.toNat, v1944.toNat, 0]
def k0_off2573 (v1941 : BitVec 32) : Fin 2 → Nat :=
  let v1942 : BitVec 32 := v1941
  let c0_i32_1168 : BitVec 32 := 0#32
  ![v1942.toNat, 0]

def k0_chk639 (i : grid0.Coords) (v1941 : BitVec 32) : Prop :=
  (∀ (k0_h3 : k0_cond3 i = 1#1), 8 ∣ (k0_mult1277 v1941).toNat) ∧
  (∀ (k0_h3 : k0_cond3 i = 1#1), ∀ a, (k0_off2573 v1941) a + S8x128.size a ≤ S131072x128.size a)
theorem k0_mult1277_dvd : ∀ (i : grid0.Coords) (v1941 : BitVec 32) (k0_hw639 : k0_chk639 i v1941), ∀ (k0_h3 : k0_cond3 i = 1#1), 8 ∣ (k0_mult1277 v1941).toNat := fun i v1941 k0_hw639 k0_h3 => k0_hw639.1 k0_h3
theorem k0_off2573_inb : ∀ (i : grid0.Coords) (v1941 : BitVec 32) (k0_hw639 : k0_chk639 i v1941), ∀ (k0_h3 : k0_cond3 i = 1#1), ∀ a, (k0_off2573 v1941) a + S8x128.size a ≤ S131072x128.size a := fun i v1941 k0_hw639 k0_h3 => k0_hw639.2 k0_h3

def k0_off2574 (i : grid0.Coords) : Fin 3 → Nat :=
  let c0_1173 : Index := 0#32
  let c0_1174 : Index := 0#32
  let arg1 : BitVec 32 := BitVec.ofNat 32 (i 1).val
  let c2_i32_1169 : BitVec 32 := 2#32
  let v1950 : BitVec 32 := Scalar.muli arg1 c2_i32_1169
  let c0_i32_1170 : BitVec 32 := 0#32
  let v1951 : BitVec 32 := Scalar.addi v1950 c0_i32_1170
  let c256_i32_1171 : BitVec 32 := 256#32
  let v1952 : BitVec 32 := Scalar.muli v1951 c256_i32_1171
  let c126_i32 : BitVec 32 := 126#32
  let v1953 : BitVec 32 := Scalar.addi v1952 c126_i32
  let v1955 : Index := Scalar.indexCast v1953
  ![0, 0, v1955.toNat]
def k0_mult1279 (v1956 : BitVec 32) : BitVec 32 :=
  v1956

def k0_mult1280 (i : grid0.Coords) : BitVec 32 :=
  let arg1 : BitVec 32 := BitVec.ofNat 32 (i 1).val
  let c2_i32_1169 : BitVec 32 := 2#32
  let v1950 : BitVec 32 := Scalar.muli arg1 c2_i32_1169
  let c0_i32_1170 : BitVec 32 := 0#32
  let v1951 : BitVec 32 := Scalar.addi v1950 c0_i32_1170
  let c256_i32_1171 : BitVec 32 := 256#32
  let v1952 : BitVec 32 := Scalar.muli v1951 c256_i32_1171
  let c126_i32 : BitVec 32 := 126#32
  let v1953 : BitVec 32 := Scalar.addi v1952 c126_i32
  let c8_i32_1175 : BitVec 32 := 8#32
  let v1958 : BitVec 32 := Scalar.muli v1953 c8_i32_1175
  v1958
def k0_off2575 (i : grid0.Coords) : Fin 1 → Nat :=
  let c1_i32_1172 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1954 : BitVec 32 := Scalar.subi c1_i32_1172 v9
  ![v1954.toNat]
def k0_off2576 (i : grid0.Coords) : Fin 3 → Nat :=
  let c1_i32_1172 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1954 : BitVec 32 := Scalar.subi c1_i32_1172 v9
  let arg1 : BitVec 32 := BitVec.ofNat 32 (i 1).val
  let c2_i32_1169 : BitVec 32 := 2#32
  let v1950 : BitVec 32 := Scalar.muli arg1 c2_i32_1169
  let c0_i32_1170 : BitVec 32 := 0#32
  let v1951 : BitVec 32 := Scalar.addi v1950 c0_i32_1170
  let c256_i32_1171 : BitVec 32 := 256#32
  let v1952 : BitVec 32 := Scalar.muli v1951 c256_i32_1171
  let c126_i32 : BitVec 32 := 126#32
  let v1953 : BitVec 32 := Scalar.addi v1952 c126_i32
  let c8_i32_1175 : BitVec 32 := 8#32
  let v1958 : BitVec 32 := Scalar.muli v1953 c8_i32_1175
  let v1959 : BitVec 32 := v1958
  let c0_i32_1176 : BitVec 32 := 0#32
  ![v1954.toNat, v1959.toNat, 0]
def k0_off2577 (v1956 : BitVec 32) : Fin 2 → Nat :=
  let v1957 : BitVec 32 := v1956
  let c0_i32_1177 : BitVec 32 := 0#32
  ![v1957.toNat, 0]

def k0_chk640 (i : grid0.Coords) (v1956 : BitVec 32) : Prop :=
  (∀ (k0_h3 : k0_cond3 i = 1#1), 8 ∣ (k0_mult1279 v1956).toNat) ∧
  (∀ (k0_h3 : k0_cond3 i = 1#1), ∀ a, (k0_off2577 v1956) a + S8x128.size a ≤ S131072x128.size a)
theorem k0_mult1279_dvd : ∀ (i : grid0.Coords) (v1956 : BitVec 32) (k0_hw640 : k0_chk640 i v1956), ∀ (k0_h3 : k0_cond3 i = 1#1), 8 ∣ (k0_mult1279 v1956).toNat := fun i v1956 k0_hw640 k0_h3 => k0_hw640.1 k0_h3
theorem k0_off2577_inb : ∀ (i : grid0.Coords) (v1956 : BitVec 32) (k0_hw640 : k0_chk640 i v1956), ∀ (k0_h3 : k0_cond3 i = 1#1), ∀ a, (k0_off2577 v1956) a + S8x128.size a ≤ S131072x128.size a := fun i v1956 k0_hw640 k0_h3 => k0_hw640.2 k0_h3

def k0_off2578 (i : grid0.Coords) : Fin 3 → Nat :=
  let c0_1182 : Index := 0#32
  let c0_1183 : Index := 0#32
  let arg1 : BitVec 32 := BitVec.ofNat 32 (i 1).val
  let c2_i32_1178 : BitVec 32 := 2#32
  let v1965 : BitVec 32 := Scalar.muli arg1 c2_i32_1178
  let c0_i32_1179 : BitVec 32 := 0#32
  let v1966 : BitVec 32 := Scalar.addi v1965 c0_i32_1179
  let c256_i32_1180 : BitVec 32 := 256#32
  let v1967 : BitVec 32 := Scalar.muli v1966 c256_i32_1180
  let c127_i32 : BitVec 32 := 127#32
  let v1968 : BitVec 32 := Scalar.addi v1967 c127_i32
  let v1970 : Index := Scalar.indexCast v1968
  ![0, 0, v1970.toNat]
def k0_mult1281 (v1971 : BitVec 32) : BitVec 32 :=
  v1971

def k0_mult1282 (i : grid0.Coords) : BitVec 32 :=
  let arg1 : BitVec 32 := BitVec.ofNat 32 (i 1).val
  let c2_i32_1178 : BitVec 32 := 2#32
  let v1965 : BitVec 32 := Scalar.muli arg1 c2_i32_1178
  let c0_i32_1179 : BitVec 32 := 0#32
  let v1966 : BitVec 32 := Scalar.addi v1965 c0_i32_1179
  let c256_i32_1180 : BitVec 32 := 256#32
  let v1967 : BitVec 32 := Scalar.muli v1966 c256_i32_1180
  let c127_i32 : BitVec 32 := 127#32
  let v1968 : BitVec 32 := Scalar.addi v1967 c127_i32
  let c8_i32_1184 : BitVec 32 := 8#32
  let v1973 : BitVec 32 := Scalar.muli v1968 c8_i32_1184
  v1973
def k0_off2579 (i : grid0.Coords) : Fin 1 → Nat :=
  let c1_i32_1181 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1969 : BitVec 32 := Scalar.subi c1_i32_1181 v9
  ![v1969.toNat]
def k0_off2580 (i : grid0.Coords) : Fin 3 → Nat :=
  let c1_i32_1181 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1969 : BitVec 32 := Scalar.subi c1_i32_1181 v9
  let arg1 : BitVec 32 := BitVec.ofNat 32 (i 1).val
  let c2_i32_1178 : BitVec 32 := 2#32
  let v1965 : BitVec 32 := Scalar.muli arg1 c2_i32_1178
  let c0_i32_1179 : BitVec 32 := 0#32
  let v1966 : BitVec 32 := Scalar.addi v1965 c0_i32_1179
  let c256_i32_1180 : BitVec 32 := 256#32
  let v1967 : BitVec 32 := Scalar.muli v1966 c256_i32_1180
  let c127_i32 : BitVec 32 := 127#32
  let v1968 : BitVec 32 := Scalar.addi v1967 c127_i32
  let c8_i32_1184 : BitVec 32 := 8#32
  let v1973 : BitVec 32 := Scalar.muli v1968 c8_i32_1184
  let v1974 : BitVec 32 := v1973
  let c0_i32_1185 : BitVec 32 := 0#32
  ![v1969.toNat, v1974.toNat, 0]
def k0_off2581 (v1971 : BitVec 32) : Fin 2 → Nat :=
  let v1972 : BitVec 32 := v1971
  let c0_i32_1186 : BitVec 32 := 0#32
  ![v1972.toNat, 0]

def k0_chk641 (i : grid0.Coords) (v1971 : BitVec 32) : Prop :=
  (∀ (k0_h3 : k0_cond3 i = 1#1), 8 ∣ (k0_mult1281 v1971).toNat) ∧
  (∀ (k0_h3 : k0_cond3 i = 1#1), ∀ a, (k0_off2581 v1971) a + S8x128.size a ≤ S131072x128.size a)
theorem k0_mult1281_dvd : ∀ (i : grid0.Coords) (v1971 : BitVec 32) (k0_hw641 : k0_chk641 i v1971), ∀ (k0_h3 : k0_cond3 i = 1#1), 8 ∣ (k0_mult1281 v1971).toNat := fun i v1971 k0_hw641 k0_h3 => k0_hw641.1 k0_h3
theorem k0_off2581_inb : ∀ (i : grid0.Coords) (v1971 : BitVec 32) (k0_hw641 : k0_chk641 i v1971), ∀ (k0_h3 : k0_cond3 i = 1#1), ∀ a, (k0_off2581 v1971) a + S8x128.size a ≤ S131072x128.size a := fun i v1971 k0_hw641 k0_h3 => k0_hw641.2 k0_h3

def k0_off2582 (i : grid0.Coords) : Fin 3 → Nat :=
  let c0_1191 : Index := 0#32
  let c0_1192 : Index := 0#32
  let arg1 : BitVec 32 := BitVec.ofNat 32 (i 1).val
  let c2_i32_1187 : BitVec 32 := 2#32
  let v1980 : BitVec 32 := Scalar.muli arg1 c2_i32_1187
  let c0_i32_1188 : BitVec 32 := 0#32
  let v1981 : BitVec 32 := Scalar.addi v1980 c0_i32_1188
  let c256_i32_1189 : BitVec 32 := 256#32
  let v1982 : BitVec 32 := Scalar.muli v1981 c256_i32_1189
  let c128_i32 : BitVec 32 := 128#32
  let v1983 : BitVec 32 := Scalar.addi v1982 c128_i32
  let v1985 : Index := Scalar.indexCast v1983
  ![0, 0, v1985.toNat]
def k0_mult1283 (v1986 : BitVec 32) : BitVec 32 :=
  v1986

def k0_mult1284 (i : grid0.Coords) : BitVec 32 :=
  let arg1 : BitVec 32 := BitVec.ofNat 32 (i 1).val
  let c2_i32_1187 : BitVec 32 := 2#32
  let v1980 : BitVec 32 := Scalar.muli arg1 c2_i32_1187
  let c0_i32_1188 : BitVec 32 := 0#32
  let v1981 : BitVec 32 := Scalar.addi v1980 c0_i32_1188
  let c256_i32_1189 : BitVec 32 := 256#32
  let v1982 : BitVec 32 := Scalar.muli v1981 c256_i32_1189
  let c128_i32 : BitVec 32 := 128#32
  let v1983 : BitVec 32 := Scalar.addi v1982 c128_i32
  let c8_i32_1193 : BitVec 32 := 8#32
  let v1988 : BitVec 32 := Scalar.muli v1983 c8_i32_1193
  v1988
def k0_off2583 (i : grid0.Coords) : Fin 1 → Nat :=
  let c1_i32_1190 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1984 : BitVec 32 := Scalar.subi c1_i32_1190 v9
  ![v1984.toNat]
def k0_off2584 (i : grid0.Coords) : Fin 3 → Nat :=
  let c1_i32_1190 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1984 : BitVec 32 := Scalar.subi c1_i32_1190 v9
  let arg1 : BitVec 32 := BitVec.ofNat 32 (i 1).val
  let c2_i32_1187 : BitVec 32 := 2#32
  let v1980 : BitVec 32 := Scalar.muli arg1 c2_i32_1187
  let c0_i32_1188 : BitVec 32 := 0#32
  let v1981 : BitVec 32 := Scalar.addi v1980 c0_i32_1188
  let c256_i32_1189 : BitVec 32 := 256#32
  let v1982 : BitVec 32 := Scalar.muli v1981 c256_i32_1189
  let c128_i32 : BitVec 32 := 128#32
  let v1983 : BitVec 32 := Scalar.addi v1982 c128_i32
  let c8_i32_1193 : BitVec 32 := 8#32
  let v1988 : BitVec 32 := Scalar.muli v1983 c8_i32_1193
  let v1989 : BitVec 32 := v1988
  let c0_i32_1194 : BitVec 32 := 0#32
  ![v1984.toNat, v1989.toNat, 0]
def k0_off2585 (v1986 : BitVec 32) : Fin 2 → Nat :=
  let v1987 : BitVec 32 := v1986
  let c0_i32_1195 : BitVec 32 := 0#32
  ![v1987.toNat, 0]

def k0_chk642 (i : grid0.Coords) (v1986 : BitVec 32) : Prop :=
  (∀ (k0_h3 : k0_cond3 i = 1#1), 8 ∣ (k0_mult1283 v1986).toNat) ∧
  (∀ (k0_h3 : k0_cond3 i = 1#1), ∀ a, (k0_off2585 v1986) a + S8x128.size a ≤ S131072x128.size a)
theorem k0_mult1283_dvd : ∀ (i : grid0.Coords) (v1986 : BitVec 32) (k0_hw642 : k0_chk642 i v1986), ∀ (k0_h3 : k0_cond3 i = 1#1), 8 ∣ (k0_mult1283 v1986).toNat := fun i v1986 k0_hw642 k0_h3 => k0_hw642.1 k0_h3
theorem k0_off2585_inb : ∀ (i : grid0.Coords) (v1986 : BitVec 32) (k0_hw642 : k0_chk642 i v1986), ∀ (k0_h3 : k0_cond3 i = 1#1), ∀ a, (k0_off2585 v1986) a + S8x128.size a ≤ S131072x128.size a := fun i v1986 k0_hw642 k0_h3 => k0_hw642.2 k0_h3

def k0_off2586 (i : grid0.Coords) : Fin 3 → Nat :=
  let c0_1200 : Index := 0#32
  let c0_1201 : Index := 0#32
  let arg1 : BitVec 32 := BitVec.ofNat 32 (i 1).val
  let c2_i32_1196 : BitVec 32 := 2#32
  let v1995 : BitVec 32 := Scalar.muli arg1 c2_i32_1196
  let c0_i32_1197 : BitVec 32 := 0#32
  let v1996 : BitVec 32 := Scalar.addi v1995 c0_i32_1197
  let c256_i32_1198 : BitVec 32 := 256#32
  let v1997 : BitVec 32 := Scalar.muli v1996 c256_i32_1198
  let c129_i32 : BitVec 32 := 129#32
  let v1998 : BitVec 32 := Scalar.addi v1997 c129_i32
  let v2000 : Index := Scalar.indexCast v1998
  ![0, 0, v2000.toNat]
def k0_mult1285 (v2001 : BitVec 32) : BitVec 32 :=
  v2001

def k0_mult1286 (i : grid0.Coords) : BitVec 32 :=
  let arg1 : BitVec 32 := BitVec.ofNat 32 (i 1).val
  let c2_i32_1196 : BitVec 32 := 2#32
  let v1995 : BitVec 32 := Scalar.muli arg1 c2_i32_1196
  let c0_i32_1197 : BitVec 32 := 0#32
  let v1996 : BitVec 32 := Scalar.addi v1995 c0_i32_1197
  let c256_i32_1198 : BitVec 32 := 256#32
  let v1997 : BitVec 32 := Scalar.muli v1996 c256_i32_1198
  let c129_i32 : BitVec 32 := 129#32
  let v1998 : BitVec 32 := Scalar.addi v1997 c129_i32
  let c8_i32_1202 : BitVec 32 := 8#32
  let v2003 : BitVec 32 := Scalar.muli v1998 c8_i32_1202
  v2003
def k0_off2587 (i : grid0.Coords) : Fin 1 → Nat :=
  let c1_i32_1199 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1999 : BitVec 32 := Scalar.subi c1_i32_1199 v9
  ![v1999.toNat]
def k0_off2588 (i : grid0.Coords) : Fin 3 → Nat :=
  let c1_i32_1199 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v1999 : BitVec 32 := Scalar.subi c1_i32_1199 v9
  let arg1 : BitVec 32 := BitVec.ofNat 32 (i 1).val
  let c2_i32_1196 : BitVec 32 := 2#32
  let v1995 : BitVec 32 := Scalar.muli arg1 c2_i32_1196
  let c0_i32_1197 : BitVec 32 := 0#32
  let v1996 : BitVec 32 := Scalar.addi v1995 c0_i32_1197
  let c256_i32_1198 : BitVec 32 := 256#32
  let v1997 : BitVec 32 := Scalar.muli v1996 c256_i32_1198
  let c129_i32 : BitVec 32 := 129#32
  let v1998 : BitVec 32 := Scalar.addi v1997 c129_i32
  let c8_i32_1202 : BitVec 32 := 8#32
  let v2003 : BitVec 32 := Scalar.muli v1998 c8_i32_1202
  let v2004 : BitVec 32 := v2003
  let c0_i32_1203 : BitVec 32 := 0#32
  ![v1999.toNat, v2004.toNat, 0]
def k0_off2589 (v2001 : BitVec 32) : Fin 2 → Nat :=
  let v2002 : BitVec 32 := v2001
  let c0_i32_1204 : BitVec 32 := 0#32
  ![v2002.toNat, 0]

def k0_chk643 (i : grid0.Coords) (v2001 : BitVec 32) : Prop :=
  (∀ (k0_h3 : k0_cond3 i = 1#1), 8 ∣ (k0_mult1285 v2001).toNat) ∧
  (∀ (k0_h3 : k0_cond3 i = 1#1), ∀ a, (k0_off2589 v2001) a + S8x128.size a ≤ S131072x128.size a)
theorem k0_mult1285_dvd : ∀ (i : grid0.Coords) (v2001 : BitVec 32) (k0_hw643 : k0_chk643 i v2001), ∀ (k0_h3 : k0_cond3 i = 1#1), 8 ∣ (k0_mult1285 v2001).toNat := fun i v2001 k0_hw643 k0_h3 => k0_hw643.1 k0_h3
theorem k0_off2589_inb : ∀ (i : grid0.Coords) (v2001 : BitVec 32) (k0_hw643 : k0_chk643 i v2001), ∀ (k0_h3 : k0_cond3 i = 1#1), ∀ a, (k0_off2589 v2001) a + S8x128.size a ≤ S131072x128.size a := fun i v2001 k0_hw643 k0_h3 => k0_hw643.2 k0_h3

def k0_off2590 (i : grid0.Coords) : Fin 3 → Nat :=
  let c0_1209 : Index := 0#32
  let c0_1210 : Index := 0#32
  let arg1 : BitVec 32 := BitVec.ofNat 32 (i 1).val
  let c2_i32_1205 : BitVec 32 := 2#32
  let v2010 : BitVec 32 := Scalar.muli arg1 c2_i32_1205
  let c0_i32_1206 : BitVec 32 := 0#32
  let v2011 : BitVec 32 := Scalar.addi v2010 c0_i32_1206
  let c256_i32_1207 : BitVec 32 := 256#32
  let v2012 : BitVec 32 := Scalar.muli v2011 c256_i32_1207
  let c130_i32 : BitVec 32 := 130#32
  let v2013 : BitVec 32 := Scalar.addi v2012 c130_i32
  let v2015 : Index := Scalar.indexCast v2013
  ![0, 0, v2015.toNat]
def k0_mult1287 (v2016 : BitVec 32) : BitVec 32 :=
  v2016

def k0_mult1288 (i : grid0.Coords) : BitVec 32 :=
  let arg1 : BitVec 32 := BitVec.ofNat 32 (i 1).val
  let c2_i32_1205 : BitVec 32 := 2#32
  let v2010 : BitVec 32 := Scalar.muli arg1 c2_i32_1205
  let c0_i32_1206 : BitVec 32 := 0#32
  let v2011 : BitVec 32 := Scalar.addi v2010 c0_i32_1206
  let c256_i32_1207 : BitVec 32 := 256#32
  let v2012 : BitVec 32 := Scalar.muli v2011 c256_i32_1207
  let c130_i32 : BitVec 32 := 130#32
  let v2013 : BitVec 32 := Scalar.addi v2012 c130_i32
  let c8_i32_1211 : BitVec 32 := 8#32
  let v2018 : BitVec 32 := Scalar.muli v2013 c8_i32_1211
  v2018
def k0_off2591 (i : grid0.Coords) : Fin 1 → Nat :=
  let c1_i32_1208 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2014 : BitVec 32 := Scalar.subi c1_i32_1208 v9
  ![v2014.toNat]
def k0_off2592 (i : grid0.Coords) : Fin 3 → Nat :=
  let c1_i32_1208 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2014 : BitVec 32 := Scalar.subi c1_i32_1208 v9
  let arg1 : BitVec 32 := BitVec.ofNat 32 (i 1).val
  let c2_i32_1205 : BitVec 32 := 2#32
  let v2010 : BitVec 32 := Scalar.muli arg1 c2_i32_1205
  let c0_i32_1206 : BitVec 32 := 0#32
  let v2011 : BitVec 32 := Scalar.addi v2010 c0_i32_1206
  let c256_i32_1207 : BitVec 32 := 256#32
  let v2012 : BitVec 32 := Scalar.muli v2011 c256_i32_1207
  let c130_i32 : BitVec 32 := 130#32
  let v2013 : BitVec 32 := Scalar.addi v2012 c130_i32
  let c8_i32_1211 : BitVec 32 := 8#32
  let v2018 : BitVec 32 := Scalar.muli v2013 c8_i32_1211
  let v2019 : BitVec 32 := v2018
  let c0_i32_1212 : BitVec 32 := 0#32
  ![v2014.toNat, v2019.toNat, 0]
def k0_off2593 (v2016 : BitVec 32) : Fin 2 → Nat :=
  let v2017 : BitVec 32 := v2016
  let c0_i32_1213 : BitVec 32 := 0#32
  ![v2017.toNat, 0]

def k0_chk644 (i : grid0.Coords) (v2016 : BitVec 32) : Prop :=
  (∀ (k0_h3 : k0_cond3 i = 1#1), 8 ∣ (k0_mult1287 v2016).toNat) ∧
  (∀ (k0_h3 : k0_cond3 i = 1#1), ∀ a, (k0_off2593 v2016) a + S8x128.size a ≤ S131072x128.size a)
theorem k0_mult1287_dvd : ∀ (i : grid0.Coords) (v2016 : BitVec 32) (k0_hw644 : k0_chk644 i v2016), ∀ (k0_h3 : k0_cond3 i = 1#1), 8 ∣ (k0_mult1287 v2016).toNat := fun i v2016 k0_hw644 k0_h3 => k0_hw644.1 k0_h3
theorem k0_off2593_inb : ∀ (i : grid0.Coords) (v2016 : BitVec 32) (k0_hw644 : k0_chk644 i v2016), ∀ (k0_h3 : k0_cond3 i = 1#1), ∀ a, (k0_off2593 v2016) a + S8x128.size a ≤ S131072x128.size a := fun i v2016 k0_hw644 k0_h3 => k0_hw644.2 k0_h3

def k0_off2594 (i : grid0.Coords) : Fin 3 → Nat :=
  let c0_1218 : Index := 0#32
  let c0_1219 : Index := 0#32
  let arg1 : BitVec 32 := BitVec.ofNat 32 (i 1).val
  let c2_i32_1214 : BitVec 32 := 2#32
  let v2025 : BitVec 32 := Scalar.muli arg1 c2_i32_1214
  let c0_i32_1215 : BitVec 32 := 0#32
  let v2026 : BitVec 32 := Scalar.addi v2025 c0_i32_1215
  let c256_i32_1216 : BitVec 32 := 256#32
  let v2027 : BitVec 32 := Scalar.muli v2026 c256_i32_1216
  let c131_i32 : BitVec 32 := 131#32
  let v2028 : BitVec 32 := Scalar.addi v2027 c131_i32
  let v2030 : Index := Scalar.indexCast v2028
  ![0, 0, v2030.toNat]
def k0_mult1289 (v2031 : BitVec 32) : BitVec 32 :=
  v2031

def k0_mult1290 (i : grid0.Coords) : BitVec 32 :=
  let arg1 : BitVec 32 := BitVec.ofNat 32 (i 1).val
  let c2_i32_1214 : BitVec 32 := 2#32
  let v2025 : BitVec 32 := Scalar.muli arg1 c2_i32_1214
  let c0_i32_1215 : BitVec 32 := 0#32
  let v2026 : BitVec 32 := Scalar.addi v2025 c0_i32_1215
  let c256_i32_1216 : BitVec 32 := 256#32
  let v2027 : BitVec 32 := Scalar.muli v2026 c256_i32_1216
  let c131_i32 : BitVec 32 := 131#32
  let v2028 : BitVec 32 := Scalar.addi v2027 c131_i32
  let c8_i32_1220 : BitVec 32 := 8#32
  let v2033 : BitVec 32 := Scalar.muli v2028 c8_i32_1220
  v2033
def k0_off2595 (i : grid0.Coords) : Fin 1 → Nat :=
  let c1_i32_1217 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2029 : BitVec 32 := Scalar.subi c1_i32_1217 v9
  ![v2029.toNat]
def k0_off2596 (i : grid0.Coords) : Fin 3 → Nat :=
  let c1_i32_1217 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2029 : BitVec 32 := Scalar.subi c1_i32_1217 v9
  let arg1 : BitVec 32 := BitVec.ofNat 32 (i 1).val
  let c2_i32_1214 : BitVec 32 := 2#32
  let v2025 : BitVec 32 := Scalar.muli arg1 c2_i32_1214
  let c0_i32_1215 : BitVec 32 := 0#32
  let v2026 : BitVec 32 := Scalar.addi v2025 c0_i32_1215
  let c256_i32_1216 : BitVec 32 := 256#32
  let v2027 : BitVec 32 := Scalar.muli v2026 c256_i32_1216
  let c131_i32 : BitVec 32 := 131#32
  let v2028 : BitVec 32 := Scalar.addi v2027 c131_i32
  let c8_i32_1220 : BitVec 32 := 8#32
  let v2033 : BitVec 32 := Scalar.muli v2028 c8_i32_1220
  let v2034 : BitVec 32 := v2033
  let c0_i32_1221 : BitVec 32 := 0#32
  ![v2029.toNat, v2034.toNat, 0]
def k0_off2597 (v2031 : BitVec 32) : Fin 2 → Nat :=
  let v2032 : BitVec 32 := v2031
  let c0_i32_1222 : BitVec 32 := 0#32
  ![v2032.toNat, 0]

def k0_chk645 (i : grid0.Coords) (v2031 : BitVec 32) : Prop :=
  (∀ (k0_h3 : k0_cond3 i = 1#1), 8 ∣ (k0_mult1289 v2031).toNat) ∧
  (∀ (k0_h3 : k0_cond3 i = 1#1), ∀ a, (k0_off2597 v2031) a + S8x128.size a ≤ S131072x128.size a)
theorem k0_mult1289_dvd : ∀ (i : grid0.Coords) (v2031 : BitVec 32) (k0_hw645 : k0_chk645 i v2031), ∀ (k0_h3 : k0_cond3 i = 1#1), 8 ∣ (k0_mult1289 v2031).toNat := fun i v2031 k0_hw645 k0_h3 => k0_hw645.1 k0_h3
theorem k0_off2597_inb : ∀ (i : grid0.Coords) (v2031 : BitVec 32) (k0_hw645 : k0_chk645 i v2031), ∀ (k0_h3 : k0_cond3 i = 1#1), ∀ a, (k0_off2597 v2031) a + S8x128.size a ≤ S131072x128.size a := fun i v2031 k0_hw645 k0_h3 => k0_hw645.2 k0_h3

def k0_off2598 (i : grid0.Coords) : Fin 3 → Nat :=
  let c0_1227 : Index := 0#32
  let c0_1228 : Index := 0#32
  let arg1 : BitVec 32 := BitVec.ofNat 32 (i 1).val
  let c2_i32_1223 : BitVec 32 := 2#32
  let v2040 : BitVec 32 := Scalar.muli arg1 c2_i32_1223
  let c0_i32_1224 : BitVec 32 := 0#32
  let v2041 : BitVec 32 := Scalar.addi v2040 c0_i32_1224
  let c256_i32_1225 : BitVec 32 := 256#32
  let v2042 : BitVec 32 := Scalar.muli v2041 c256_i32_1225
  let c132_i32 : BitVec 32 := 132#32
  let v2043 : BitVec 32 := Scalar.addi v2042 c132_i32
  let v2045 : Index := Scalar.indexCast v2043
  ![0, 0, v2045.toNat]
def k0_mult1291 (v2046 : BitVec 32) : BitVec 32 :=
  v2046

def k0_mult1292 (i : grid0.Coords) : BitVec 32 :=
  let arg1 : BitVec 32 := BitVec.ofNat 32 (i 1).val
  let c2_i32_1223 : BitVec 32 := 2#32
  let v2040 : BitVec 32 := Scalar.muli arg1 c2_i32_1223
  let c0_i32_1224 : BitVec 32 := 0#32
  let v2041 : BitVec 32 := Scalar.addi v2040 c0_i32_1224
  let c256_i32_1225 : BitVec 32 := 256#32
  let v2042 : BitVec 32 := Scalar.muli v2041 c256_i32_1225
  let c132_i32 : BitVec 32 := 132#32
  let v2043 : BitVec 32 := Scalar.addi v2042 c132_i32
  let c8_i32_1229 : BitVec 32 := 8#32
  let v2048 : BitVec 32 := Scalar.muli v2043 c8_i32_1229
  v2048
def k0_off2599 (i : grid0.Coords) : Fin 1 → Nat :=
  let c1_i32_1226 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2044 : BitVec 32 := Scalar.subi c1_i32_1226 v9
  ![v2044.toNat]
def k0_off2600 (i : grid0.Coords) : Fin 3 → Nat :=
  let c1_i32_1226 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2044 : BitVec 32 := Scalar.subi c1_i32_1226 v9
  let arg1 : BitVec 32 := BitVec.ofNat 32 (i 1).val
  let c2_i32_1223 : BitVec 32 := 2#32
  let v2040 : BitVec 32 := Scalar.muli arg1 c2_i32_1223
  let c0_i32_1224 : BitVec 32 := 0#32
  let v2041 : BitVec 32 := Scalar.addi v2040 c0_i32_1224
  let c256_i32_1225 : BitVec 32 := 256#32
  let v2042 : BitVec 32 := Scalar.muli v2041 c256_i32_1225
  let c132_i32 : BitVec 32 := 132#32
  let v2043 : BitVec 32 := Scalar.addi v2042 c132_i32
  let c8_i32_1229 : BitVec 32 := 8#32
  let v2048 : BitVec 32 := Scalar.muli v2043 c8_i32_1229
  let v2049 : BitVec 32 := v2048
  let c0_i32_1230 : BitVec 32 := 0#32
  ![v2044.toNat, v2049.toNat, 0]
def k0_off2601 (v2046 : BitVec 32) : Fin 2 → Nat :=
  let v2047 : BitVec 32 := v2046
  let c0_i32_1231 : BitVec 32 := 0#32
  ![v2047.toNat, 0]

def k0_chk646 (i : grid0.Coords) (v2046 : BitVec 32) : Prop :=
  (∀ (k0_h3 : k0_cond3 i = 1#1), 8 ∣ (k0_mult1291 v2046).toNat) ∧
  (∀ (k0_h3 : k0_cond3 i = 1#1), ∀ a, (k0_off2601 v2046) a + S8x128.size a ≤ S131072x128.size a)
theorem k0_mult1291_dvd : ∀ (i : grid0.Coords) (v2046 : BitVec 32) (k0_hw646 : k0_chk646 i v2046), ∀ (k0_h3 : k0_cond3 i = 1#1), 8 ∣ (k0_mult1291 v2046).toNat := fun i v2046 k0_hw646 k0_h3 => k0_hw646.1 k0_h3
theorem k0_off2601_inb : ∀ (i : grid0.Coords) (v2046 : BitVec 32) (k0_hw646 : k0_chk646 i v2046), ∀ (k0_h3 : k0_cond3 i = 1#1), ∀ a, (k0_off2601 v2046) a + S8x128.size a ≤ S131072x128.size a := fun i v2046 k0_hw646 k0_h3 => k0_hw646.2 k0_h3

def k0_off2602 (i : grid0.Coords) : Fin 3 → Nat :=
  let c0_1236 : Index := 0#32
  let c0_1237 : Index := 0#32
  let arg1 : BitVec 32 := BitVec.ofNat 32 (i 1).val
  let c2_i32_1232 : BitVec 32 := 2#32
  let v2055 : BitVec 32 := Scalar.muli arg1 c2_i32_1232
  let c0_i32_1233 : BitVec 32 := 0#32
  let v2056 : BitVec 32 := Scalar.addi v2055 c0_i32_1233
  let c256_i32_1234 : BitVec 32 := 256#32
  let v2057 : BitVec 32 := Scalar.muli v2056 c256_i32_1234
  let c133_i32 : BitVec 32 := 133#32
  let v2058 : BitVec 32 := Scalar.addi v2057 c133_i32
  let v2060 : Index := Scalar.indexCast v2058
  ![0, 0, v2060.toNat]
def k0_mult1293 (v2061 : BitVec 32) : BitVec 32 :=
  v2061

def k0_mult1294 (i : grid0.Coords) : BitVec 32 :=
  let arg1 : BitVec 32 := BitVec.ofNat 32 (i 1).val
  let c2_i32_1232 : BitVec 32 := 2#32
  let v2055 : BitVec 32 := Scalar.muli arg1 c2_i32_1232
  let c0_i32_1233 : BitVec 32 := 0#32
  let v2056 : BitVec 32 := Scalar.addi v2055 c0_i32_1233
  let c256_i32_1234 : BitVec 32 := 256#32
  let v2057 : BitVec 32 := Scalar.muli v2056 c256_i32_1234
  let c133_i32 : BitVec 32 := 133#32
  let v2058 : BitVec 32 := Scalar.addi v2057 c133_i32
  let c8_i32_1238 : BitVec 32 := 8#32
  let v2063 : BitVec 32 := Scalar.muli v2058 c8_i32_1238
  v2063
def k0_off2603 (i : grid0.Coords) : Fin 1 → Nat :=
  let c1_i32_1235 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2059 : BitVec 32 := Scalar.subi c1_i32_1235 v9
  ![v2059.toNat]
def k0_off2604 (i : grid0.Coords) : Fin 3 → Nat :=
  let c1_i32_1235 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2059 : BitVec 32 := Scalar.subi c1_i32_1235 v9
  let arg1 : BitVec 32 := BitVec.ofNat 32 (i 1).val
  let c2_i32_1232 : BitVec 32 := 2#32
  let v2055 : BitVec 32 := Scalar.muli arg1 c2_i32_1232
  let c0_i32_1233 : BitVec 32 := 0#32
  let v2056 : BitVec 32 := Scalar.addi v2055 c0_i32_1233
  let c256_i32_1234 : BitVec 32 := 256#32
  let v2057 : BitVec 32 := Scalar.muli v2056 c256_i32_1234
  let c133_i32 : BitVec 32 := 133#32
  let v2058 : BitVec 32 := Scalar.addi v2057 c133_i32
  let c8_i32_1238 : BitVec 32 := 8#32
  let v2063 : BitVec 32 := Scalar.muli v2058 c8_i32_1238
  let v2064 : BitVec 32 := v2063
  let c0_i32_1239 : BitVec 32 := 0#32
  ![v2059.toNat, v2064.toNat, 0]
def k0_off2605 (v2061 : BitVec 32) : Fin 2 → Nat :=
  let v2062 : BitVec 32 := v2061
  let c0_i32_1240 : BitVec 32 := 0#32
  ![v2062.toNat, 0]

def k0_chk647 (i : grid0.Coords) (v2061 : BitVec 32) : Prop :=
  (∀ (k0_h3 : k0_cond3 i = 1#1), 8 ∣ (k0_mult1293 v2061).toNat) ∧
  (∀ (k0_h3 : k0_cond3 i = 1#1), ∀ a, (k0_off2605 v2061) a + S8x128.size a ≤ S131072x128.size a)
theorem k0_mult1293_dvd : ∀ (i : grid0.Coords) (v2061 : BitVec 32) (k0_hw647 : k0_chk647 i v2061), ∀ (k0_h3 : k0_cond3 i = 1#1), 8 ∣ (k0_mult1293 v2061).toNat := fun i v2061 k0_hw647 k0_h3 => k0_hw647.1 k0_h3
theorem k0_off2605_inb : ∀ (i : grid0.Coords) (v2061 : BitVec 32) (k0_hw647 : k0_chk647 i v2061), ∀ (k0_h3 : k0_cond3 i = 1#1), ∀ a, (k0_off2605 v2061) a + S8x128.size a ≤ S131072x128.size a := fun i v2061 k0_hw647 k0_h3 => k0_hw647.2 k0_h3

def k0_off2606 (i : grid0.Coords) : Fin 3 → Nat :=
  let c0_1245 : Index := 0#32
  let c0_1246 : Index := 0#32
  let arg1 : BitVec 32 := BitVec.ofNat 32 (i 1).val
  let c2_i32_1241 : BitVec 32 := 2#32
  let v2070 : BitVec 32 := Scalar.muli arg1 c2_i32_1241
  let c0_i32_1242 : BitVec 32 := 0#32
  let v2071 : BitVec 32 := Scalar.addi v2070 c0_i32_1242
  let c256_i32_1243 : BitVec 32 := 256#32
  let v2072 : BitVec 32 := Scalar.muli v2071 c256_i32_1243
  let c134_i32 : BitVec 32 := 134#32
  let v2073 : BitVec 32 := Scalar.addi v2072 c134_i32
  let v2075 : Index := Scalar.indexCast v2073
  ![0, 0, v2075.toNat]
def k0_mult1295 (v2076 : BitVec 32) : BitVec 32 :=
  v2076

def k0_mult1296 (i : grid0.Coords) : BitVec 32 :=
  let arg1 : BitVec 32 := BitVec.ofNat 32 (i 1).val
  let c2_i32_1241 : BitVec 32 := 2#32
  let v2070 : BitVec 32 := Scalar.muli arg1 c2_i32_1241
  let c0_i32_1242 : BitVec 32 := 0#32
  let v2071 : BitVec 32 := Scalar.addi v2070 c0_i32_1242
  let c256_i32_1243 : BitVec 32 := 256#32
  let v2072 : BitVec 32 := Scalar.muli v2071 c256_i32_1243
  let c134_i32 : BitVec 32 := 134#32
  let v2073 : BitVec 32 := Scalar.addi v2072 c134_i32
  let c8_i32_1247 : BitVec 32 := 8#32
  let v2078 : BitVec 32 := Scalar.muli v2073 c8_i32_1247
  v2078
def k0_off2607 (i : grid0.Coords) : Fin 1 → Nat :=
  let c1_i32_1244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2074 : BitVec 32 := Scalar.subi c1_i32_1244 v9
  ![v2074.toNat]
def k0_off2608 (i : grid0.Coords) : Fin 3 → Nat :=
  let c1_i32_1244 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2074 : BitVec 32 := Scalar.subi c1_i32_1244 v9
  let arg1 : BitVec 32 := BitVec.ofNat 32 (i 1).val
  let c2_i32_1241 : BitVec 32 := 2#32
  let v2070 : BitVec 32 := Scalar.muli arg1 c2_i32_1241
  let c0_i32_1242 : BitVec 32 := 0#32
  let v2071 : BitVec 32 := Scalar.addi v2070 c0_i32_1242
  let c256_i32_1243 : BitVec 32 := 256#32
  let v2072 : BitVec 32 := Scalar.muli v2071 c256_i32_1243
  let c134_i32 : BitVec 32 := 134#32
  let v2073 : BitVec 32 := Scalar.addi v2072 c134_i32
  let c8_i32_1247 : BitVec 32 := 8#32
  let v2078 : BitVec 32 := Scalar.muli v2073 c8_i32_1247
  let v2079 : BitVec 32 := v2078
  let c0_i32_1248 : BitVec 32 := 0#32
  ![v2074.toNat, v2079.toNat, 0]
def k0_off2609 (v2076 : BitVec 32) : Fin 2 → Nat :=
  let v2077 : BitVec 32 := v2076
  let c0_i32_1249 : BitVec 32 := 0#32
  ![v2077.toNat, 0]

def k0_chk648 (i : grid0.Coords) (v2076 : BitVec 32) : Prop :=
  (∀ (k0_h3 : k0_cond3 i = 1#1), 8 ∣ (k0_mult1295 v2076).toNat) ∧
  (∀ (k0_h3 : k0_cond3 i = 1#1), ∀ a, (k0_off2609 v2076) a + S8x128.size a ≤ S131072x128.size a)
theorem k0_mult1295_dvd : ∀ (i : grid0.Coords) (v2076 : BitVec 32) (k0_hw648 : k0_chk648 i v2076), ∀ (k0_h3 : k0_cond3 i = 1#1), 8 ∣ (k0_mult1295 v2076).toNat := fun i v2076 k0_hw648 k0_h3 => k0_hw648.1 k0_h3
theorem k0_off2609_inb : ∀ (i : grid0.Coords) (v2076 : BitVec 32) (k0_hw648 : k0_chk648 i v2076), ∀ (k0_h3 : k0_cond3 i = 1#1), ∀ a, (k0_off2609 v2076) a + S8x128.size a ≤ S131072x128.size a := fun i v2076 k0_hw648 k0_h3 => k0_hw648.2 k0_h3

def k0_off2610 (i : grid0.Coords) : Fin 3 → Nat :=
  let c0_1254 : Index := 0#32
  let c0_1255 : Index := 0#32
  let arg1 : BitVec 32 := BitVec.ofNat 32 (i 1).val
  let c2_i32_1250 : BitVec 32 := 2#32
  let v2085 : BitVec 32 := Scalar.muli arg1 c2_i32_1250
  let c0_i32_1251 : BitVec 32 := 0#32
  let v2086 : BitVec 32 := Scalar.addi v2085 c0_i32_1251
  let c256_i32_1252 : BitVec 32 := 256#32
  let v2087 : BitVec 32 := Scalar.muli v2086 c256_i32_1252
  let c135_i32 : BitVec 32 := 135#32
  let v2088 : BitVec 32 := Scalar.addi v2087 c135_i32
  let v2090 : Index := Scalar.indexCast v2088
  ![0, 0, v2090.toNat]
def k0_mult1297 (v2091 : BitVec 32) : BitVec 32 :=
  v2091

def k0_mult1298 (i : grid0.Coords) : BitVec 32 :=
  let arg1 : BitVec 32 := BitVec.ofNat 32 (i 1).val
  let c2_i32_1250 : BitVec 32 := 2#32
  let v2085 : BitVec 32 := Scalar.muli arg1 c2_i32_1250
  let c0_i32_1251 : BitVec 32 := 0#32
  let v2086 : BitVec 32 := Scalar.addi v2085 c0_i32_1251
  let c256_i32_1252 : BitVec 32 := 256#32
  let v2087 : BitVec 32 := Scalar.muli v2086 c256_i32_1252
  let c135_i32 : BitVec 32 := 135#32
  let v2088 : BitVec 32 := Scalar.addi v2087 c135_i32
  let c8_i32_1256 : BitVec 32 := 8#32
  let v2093 : BitVec 32 := Scalar.muli v2088 c8_i32_1256
  v2093
def k0_off2611 (i : grid0.Coords) : Fin 1 → Nat :=
  let c1_i32_1253 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2089 : BitVec 32 := Scalar.subi c1_i32_1253 v9
  ![v2089.toNat]
def k0_off2612 (i : grid0.Coords) : Fin 3 → Nat :=
  let c1_i32_1253 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2089 : BitVec 32 := Scalar.subi c1_i32_1253 v9
  let arg1 : BitVec 32 := BitVec.ofNat 32 (i 1).val
  let c2_i32_1250 : BitVec 32 := 2#32
  let v2085 : BitVec 32 := Scalar.muli arg1 c2_i32_1250
  let c0_i32_1251 : BitVec 32 := 0#32
  let v2086 : BitVec 32 := Scalar.addi v2085 c0_i32_1251
  let c256_i32_1252 : BitVec 32 := 256#32
  let v2087 : BitVec 32 := Scalar.muli v2086 c256_i32_1252
  let c135_i32 : BitVec 32 := 135#32
  let v2088 : BitVec 32 := Scalar.addi v2087 c135_i32
  let c8_i32_1256 : BitVec 32 := 8#32
  let v2093 : BitVec 32 := Scalar.muli v2088 c8_i32_1256
  let v2094 : BitVec 32 := v2093
  let c0_i32_1257 : BitVec 32 := 0#32
  ![v2089.toNat, v2094.toNat, 0]
def k0_off2613 (v2091 : BitVec 32) : Fin 2 → Nat :=
  let v2092 : BitVec 32 := v2091
  let c0_i32_1258 : BitVec 32 := 0#32
  ![v2092.toNat, 0]

def k0_chk649 (i : grid0.Coords) (v2091 : BitVec 32) : Prop :=
  (∀ (k0_h3 : k0_cond3 i = 1#1), 8 ∣ (k0_mult1297 v2091).toNat) ∧
  (∀ (k0_h3 : k0_cond3 i = 1#1), ∀ a, (k0_off2613 v2091) a + S8x128.size a ≤ S131072x128.size a)
theorem k0_mult1297_dvd : ∀ (i : grid0.Coords) (v2091 : BitVec 32) (k0_hw649 : k0_chk649 i v2091), ∀ (k0_h3 : k0_cond3 i = 1#1), 8 ∣ (k0_mult1297 v2091).toNat := fun i v2091 k0_hw649 k0_h3 => k0_hw649.1 k0_h3
theorem k0_off2613_inb : ∀ (i : grid0.Coords) (v2091 : BitVec 32) (k0_hw649 : k0_chk649 i v2091), ∀ (k0_h3 : k0_cond3 i = 1#1), ∀ a, (k0_off2613 v2091) a + S8x128.size a ≤ S131072x128.size a := fun i v2091 k0_hw649 k0_h3 => k0_hw649.2 k0_h3

def k0_off2614 (i : grid0.Coords) : Fin 3 → Nat :=
  let c0_1263 : Index := 0#32
  let c0_1264 : Index := 0#32
  let arg1 : BitVec 32 := BitVec.ofNat 32 (i 1).val
  let c2_i32_1259 : BitVec 32 := 2#32
  let v2100 : BitVec 32 := Scalar.muli arg1 c2_i32_1259
  let c0_i32_1260 : BitVec 32 := 0#32
  let v2101 : BitVec 32 := Scalar.addi v2100 c0_i32_1260
  let c256_i32_1261 : BitVec 32 := 256#32
  let v2102 : BitVec 32 := Scalar.muli v2101 c256_i32_1261
  let c136_i32 : BitVec 32 := 136#32
  let v2103 : BitVec 32 := Scalar.addi v2102 c136_i32
  let v2105 : Index := Scalar.indexCast v2103
  ![0, 0, v2105.toNat]
def k0_mult1299 (v2106 : BitVec 32) : BitVec 32 :=
  v2106

def k0_mult1300 (i : grid0.Coords) : BitVec 32 :=
  let arg1 : BitVec 32 := BitVec.ofNat 32 (i 1).val
  let c2_i32_1259 : BitVec 32 := 2#32
  let v2100 : BitVec 32 := Scalar.muli arg1 c2_i32_1259
  let c0_i32_1260 : BitVec 32 := 0#32
  let v2101 : BitVec 32 := Scalar.addi v2100 c0_i32_1260
  let c256_i32_1261 : BitVec 32 := 256#32
  let v2102 : BitVec 32 := Scalar.muli v2101 c256_i32_1261
  let c136_i32 : BitVec 32 := 136#32
  let v2103 : BitVec 32 := Scalar.addi v2102 c136_i32
  let c8_i32_1265 : BitVec 32 := 8#32
  let v2108 : BitVec 32 := Scalar.muli v2103 c8_i32_1265
  v2108
def k0_off2615 (i : grid0.Coords) : Fin 1 → Nat :=
  let c1_i32_1262 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2104 : BitVec 32 := Scalar.subi c1_i32_1262 v9
  ![v2104.toNat]
def k0_off2616 (i : grid0.Coords) : Fin 3 → Nat :=
  let c1_i32_1262 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2104 : BitVec 32 := Scalar.subi c1_i32_1262 v9
  let arg1 : BitVec 32 := BitVec.ofNat 32 (i 1).val
  let c2_i32_1259 : BitVec 32 := 2#32
  let v2100 : BitVec 32 := Scalar.muli arg1 c2_i32_1259
  let c0_i32_1260 : BitVec 32 := 0#32
  let v2101 : BitVec 32 := Scalar.addi v2100 c0_i32_1260
  let c256_i32_1261 : BitVec 32 := 256#32
  let v2102 : BitVec 32 := Scalar.muli v2101 c256_i32_1261
  let c136_i32 : BitVec 32 := 136#32
  let v2103 : BitVec 32 := Scalar.addi v2102 c136_i32
  let c8_i32_1265 : BitVec 32 := 8#32
  let v2108 : BitVec 32 := Scalar.muli v2103 c8_i32_1265
  let v2109 : BitVec 32 := v2108
  let c0_i32_1266 : BitVec 32 := 0#32
  ![v2104.toNat, v2109.toNat, 0]
def k0_off2617 (v2106 : BitVec 32) : Fin 2 → Nat :=
  let v2107 : BitVec 32 := v2106
  let c0_i32_1267 : BitVec 32 := 0#32
  ![v2107.toNat, 0]

def k0_chk650 (i : grid0.Coords) (v2106 : BitVec 32) : Prop :=
  (∀ (k0_h3 : k0_cond3 i = 1#1), 8 ∣ (k0_mult1299 v2106).toNat) ∧
  (∀ (k0_h3 : k0_cond3 i = 1#1), ∀ a, (k0_off2617 v2106) a + S8x128.size a ≤ S131072x128.size a)
theorem k0_mult1299_dvd : ∀ (i : grid0.Coords) (v2106 : BitVec 32) (k0_hw650 : k0_chk650 i v2106), ∀ (k0_h3 : k0_cond3 i = 1#1), 8 ∣ (k0_mult1299 v2106).toNat := fun i v2106 k0_hw650 k0_h3 => k0_hw650.1 k0_h3
theorem k0_off2617_inb : ∀ (i : grid0.Coords) (v2106 : BitVec 32) (k0_hw650 : k0_chk650 i v2106), ∀ (k0_h3 : k0_cond3 i = 1#1), ∀ a, (k0_off2617 v2106) a + S8x128.size a ≤ S131072x128.size a := fun i v2106 k0_hw650 k0_h3 => k0_hw650.2 k0_h3

def k0_off2618 (i : grid0.Coords) : Fin 3 → Nat :=
  let c0_1272 : Index := 0#32
  let c0_1273 : Index := 0#32
  let arg1 : BitVec 32 := BitVec.ofNat 32 (i 1).val
  let c2_i32_1268 : BitVec 32 := 2#32
  let v2115 : BitVec 32 := Scalar.muli arg1 c2_i32_1268
  let c0_i32_1269 : BitVec 32 := 0#32
  let v2116 : BitVec 32 := Scalar.addi v2115 c0_i32_1269
  let c256_i32_1270 : BitVec 32 := 256#32
  let v2117 : BitVec 32 := Scalar.muli v2116 c256_i32_1270
  let c137_i32 : BitVec 32 := 137#32
  let v2118 : BitVec 32 := Scalar.addi v2117 c137_i32
  let v2120 : Index := Scalar.indexCast v2118
  ![0, 0, v2120.toNat]
def k0_mult1301 (v2121 : BitVec 32) : BitVec 32 :=
  v2121

def k0_mult1302 (i : grid0.Coords) : BitVec 32 :=
  let arg1 : BitVec 32 := BitVec.ofNat 32 (i 1).val
  let c2_i32_1268 : BitVec 32 := 2#32
  let v2115 : BitVec 32 := Scalar.muli arg1 c2_i32_1268
  let c0_i32_1269 : BitVec 32 := 0#32
  let v2116 : BitVec 32 := Scalar.addi v2115 c0_i32_1269
  let c256_i32_1270 : BitVec 32 := 256#32
  let v2117 : BitVec 32 := Scalar.muli v2116 c256_i32_1270
  let c137_i32 : BitVec 32 := 137#32
  let v2118 : BitVec 32 := Scalar.addi v2117 c137_i32
  let c8_i32_1274 : BitVec 32 := 8#32
  let v2123 : BitVec 32 := Scalar.muli v2118 c8_i32_1274
  v2123
def k0_off2619 (i : grid0.Coords) : Fin 1 → Nat :=
  let c1_i32_1271 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2119 : BitVec 32 := Scalar.subi c1_i32_1271 v9
  ![v2119.toNat]
def k0_off2620 (i : grid0.Coords) : Fin 3 → Nat :=
  let c1_i32_1271 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2119 : BitVec 32 := Scalar.subi c1_i32_1271 v9
  let arg1 : BitVec 32 := BitVec.ofNat 32 (i 1).val
  let c2_i32_1268 : BitVec 32 := 2#32
  let v2115 : BitVec 32 := Scalar.muli arg1 c2_i32_1268
  let c0_i32_1269 : BitVec 32 := 0#32
  let v2116 : BitVec 32 := Scalar.addi v2115 c0_i32_1269
  let c256_i32_1270 : BitVec 32 := 256#32
  let v2117 : BitVec 32 := Scalar.muli v2116 c256_i32_1270
  let c137_i32 : BitVec 32 := 137#32
  let v2118 : BitVec 32 := Scalar.addi v2117 c137_i32
  let c8_i32_1274 : BitVec 32 := 8#32
  let v2123 : BitVec 32 := Scalar.muli v2118 c8_i32_1274
  let v2124 : BitVec 32 := v2123
  let c0_i32_1275 : BitVec 32 := 0#32
  ![v2119.toNat, v2124.toNat, 0]
def k0_off2621 (v2121 : BitVec 32) : Fin 2 → Nat :=
  let v2122 : BitVec 32 := v2121
  let c0_i32_1276 : BitVec 32 := 0#32
  ![v2122.toNat, 0]

def k0_chk651 (i : grid0.Coords) (v2121 : BitVec 32) : Prop :=
  (∀ (k0_h3 : k0_cond3 i = 1#1), 8 ∣ (k0_mult1301 v2121).toNat) ∧
  (∀ (k0_h3 : k0_cond3 i = 1#1), ∀ a, (k0_off2621 v2121) a + S8x128.size a ≤ S131072x128.size a)
theorem k0_mult1301_dvd : ∀ (i : grid0.Coords) (v2121 : BitVec 32) (k0_hw651 : k0_chk651 i v2121), ∀ (k0_h3 : k0_cond3 i = 1#1), 8 ∣ (k0_mult1301 v2121).toNat := fun i v2121 k0_hw651 k0_h3 => k0_hw651.1 k0_h3
theorem k0_off2621_inb : ∀ (i : grid0.Coords) (v2121 : BitVec 32) (k0_hw651 : k0_chk651 i v2121), ∀ (k0_h3 : k0_cond3 i = 1#1), ∀ a, (k0_off2621 v2121) a + S8x128.size a ≤ S131072x128.size a := fun i v2121 k0_hw651 k0_h3 => k0_hw651.2 k0_h3

def k0_off2622 (i : grid0.Coords) : Fin 3 → Nat :=
  let c0_1281 : Index := 0#32
  let c0_1282 : Index := 0#32
  let arg1 : BitVec 32 := BitVec.ofNat 32 (i 1).val
  let c2_i32_1277 : BitVec 32 := 2#32
  let v2130 : BitVec 32 := Scalar.muli arg1 c2_i32_1277
  let c0_i32_1278 : BitVec 32 := 0#32
  let v2131 : BitVec 32 := Scalar.addi v2130 c0_i32_1278
  let c256_i32_1279 : BitVec 32 := 256#32
  let v2132 : BitVec 32 := Scalar.muli v2131 c256_i32_1279
  let c138_i32 : BitVec 32 := 138#32
  let v2133 : BitVec 32 := Scalar.addi v2132 c138_i32
  let v2135 : Index := Scalar.indexCast v2133
  ![0, 0, v2135.toNat]
def k0_mult1303 (v2136 : BitVec 32) : BitVec 32 :=
  v2136

def k0_mult1304 (i : grid0.Coords) : BitVec 32 :=
  let arg1 : BitVec 32 := BitVec.ofNat 32 (i 1).val
  let c2_i32_1277 : BitVec 32 := 2#32
  let v2130 : BitVec 32 := Scalar.muli arg1 c2_i32_1277
  let c0_i32_1278 : BitVec 32 := 0#32
  let v2131 : BitVec 32 := Scalar.addi v2130 c0_i32_1278
  let c256_i32_1279 : BitVec 32 := 256#32
  let v2132 : BitVec 32 := Scalar.muli v2131 c256_i32_1279
  let c138_i32 : BitVec 32 := 138#32
  let v2133 : BitVec 32 := Scalar.addi v2132 c138_i32
  let c8_i32_1283 : BitVec 32 := 8#32
  let v2138 : BitVec 32 := Scalar.muli v2133 c8_i32_1283
  v2138
def k0_off2623 (i : grid0.Coords) : Fin 1 → Nat :=
  let c1_i32_1280 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2134 : BitVec 32 := Scalar.subi c1_i32_1280 v9
  ![v2134.toNat]
def k0_off2624 (i : grid0.Coords) : Fin 3 → Nat :=
  let c1_i32_1280 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2134 : BitVec 32 := Scalar.subi c1_i32_1280 v9
  let arg1 : BitVec 32 := BitVec.ofNat 32 (i 1).val
  let c2_i32_1277 : BitVec 32 := 2#32
  let v2130 : BitVec 32 := Scalar.muli arg1 c2_i32_1277
  let c0_i32_1278 : BitVec 32 := 0#32
  let v2131 : BitVec 32 := Scalar.addi v2130 c0_i32_1278
  let c256_i32_1279 : BitVec 32 := 256#32
  let v2132 : BitVec 32 := Scalar.muli v2131 c256_i32_1279
  let c138_i32 : BitVec 32 := 138#32
  let v2133 : BitVec 32 := Scalar.addi v2132 c138_i32
  let c8_i32_1283 : BitVec 32 := 8#32
  let v2138 : BitVec 32 := Scalar.muli v2133 c8_i32_1283
  let v2139 : BitVec 32 := v2138
  let c0_i32_1284 : BitVec 32 := 0#32
  ![v2134.toNat, v2139.toNat, 0]
def k0_off2625 (v2136 : BitVec 32) : Fin 2 → Nat :=
  let v2137 : BitVec 32 := v2136
  let c0_i32_1285 : BitVec 32 := 0#32
  ![v2137.toNat, 0]

def k0_chk652 (i : grid0.Coords) (v2136 : BitVec 32) : Prop :=
  (∀ (k0_h3 : k0_cond3 i = 1#1), 8 ∣ (k0_mult1303 v2136).toNat) ∧
  (∀ (k0_h3 : k0_cond3 i = 1#1), ∀ a, (k0_off2625 v2136) a + S8x128.size a ≤ S131072x128.size a)
theorem k0_mult1303_dvd : ∀ (i : grid0.Coords) (v2136 : BitVec 32) (k0_hw652 : k0_chk652 i v2136), ∀ (k0_h3 : k0_cond3 i = 1#1), 8 ∣ (k0_mult1303 v2136).toNat := fun i v2136 k0_hw652 k0_h3 => k0_hw652.1 k0_h3
theorem k0_off2625_inb : ∀ (i : grid0.Coords) (v2136 : BitVec 32) (k0_hw652 : k0_chk652 i v2136), ∀ (k0_h3 : k0_cond3 i = 1#1), ∀ a, (k0_off2625 v2136) a + S8x128.size a ≤ S131072x128.size a := fun i v2136 k0_hw652 k0_h3 => k0_hw652.2 k0_h3

def k0_off2626 (i : grid0.Coords) : Fin 3 → Nat :=
  let c0_1290 : Index := 0#32
  let c0_1291 : Index := 0#32
  let arg1 : BitVec 32 := BitVec.ofNat 32 (i 1).val
  let c2_i32_1286 : BitVec 32 := 2#32
  let v2145 : BitVec 32 := Scalar.muli arg1 c2_i32_1286
  let c0_i32_1287 : BitVec 32 := 0#32
  let v2146 : BitVec 32 := Scalar.addi v2145 c0_i32_1287
  let c256_i32_1288 : BitVec 32 := 256#32
  let v2147 : BitVec 32 := Scalar.muli v2146 c256_i32_1288
  let c139_i32 : BitVec 32 := 139#32
  let v2148 : BitVec 32 := Scalar.addi v2147 c139_i32
  let v2150 : Index := Scalar.indexCast v2148
  ![0, 0, v2150.toNat]
def k0_mult1305 (v2151 : BitVec 32) : BitVec 32 :=
  v2151

def k0_mult1306 (i : grid0.Coords) : BitVec 32 :=
  let arg1 : BitVec 32 := BitVec.ofNat 32 (i 1).val
  let c2_i32_1286 : BitVec 32 := 2#32
  let v2145 : BitVec 32 := Scalar.muli arg1 c2_i32_1286
  let c0_i32_1287 : BitVec 32 := 0#32
  let v2146 : BitVec 32 := Scalar.addi v2145 c0_i32_1287
  let c256_i32_1288 : BitVec 32 := 256#32
  let v2147 : BitVec 32 := Scalar.muli v2146 c256_i32_1288
  let c139_i32 : BitVec 32 := 139#32
  let v2148 : BitVec 32 := Scalar.addi v2147 c139_i32
  let c8_i32_1292 : BitVec 32 := 8#32
  let v2153 : BitVec 32 := Scalar.muli v2148 c8_i32_1292
  v2153
def k0_off2627 (i : grid0.Coords) : Fin 1 → Nat :=
  let c1_i32_1289 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2149 : BitVec 32 := Scalar.subi c1_i32_1289 v9
  ![v2149.toNat]
def k0_off2628 (i : grid0.Coords) : Fin 3 → Nat :=
  let c1_i32_1289 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2149 : BitVec 32 := Scalar.subi c1_i32_1289 v9
  let arg1 : BitVec 32 := BitVec.ofNat 32 (i 1).val
  let c2_i32_1286 : BitVec 32 := 2#32
  let v2145 : BitVec 32 := Scalar.muli arg1 c2_i32_1286
  let c0_i32_1287 : BitVec 32 := 0#32
  let v2146 : BitVec 32 := Scalar.addi v2145 c0_i32_1287
  let c256_i32_1288 : BitVec 32 := 256#32
  let v2147 : BitVec 32 := Scalar.muli v2146 c256_i32_1288
  let c139_i32 : BitVec 32 := 139#32
  let v2148 : BitVec 32 := Scalar.addi v2147 c139_i32
  let c8_i32_1292 : BitVec 32 := 8#32
  let v2153 : BitVec 32 := Scalar.muli v2148 c8_i32_1292
  let v2154 : BitVec 32 := v2153
  let c0_i32_1293 : BitVec 32 := 0#32
  ![v2149.toNat, v2154.toNat, 0]
def k0_off2629 (v2151 : BitVec 32) : Fin 2 → Nat :=
  let v2152 : BitVec 32 := v2151
  let c0_i32_1294 : BitVec 32 := 0#32
  ![v2152.toNat, 0]

def k0_chk653 (i : grid0.Coords) (v2151 : BitVec 32) : Prop :=
  (∀ (k0_h3 : k0_cond3 i = 1#1), 8 ∣ (k0_mult1305 v2151).toNat) ∧
  (∀ (k0_h3 : k0_cond3 i = 1#1), ∀ a, (k0_off2629 v2151) a + S8x128.size a ≤ S131072x128.size a)
theorem k0_mult1305_dvd : ∀ (i : grid0.Coords) (v2151 : BitVec 32) (k0_hw653 : k0_chk653 i v2151), ∀ (k0_h3 : k0_cond3 i = 1#1), 8 ∣ (k0_mult1305 v2151).toNat := fun i v2151 k0_hw653 k0_h3 => k0_hw653.1 k0_h3
theorem k0_off2629_inb : ∀ (i : grid0.Coords) (v2151 : BitVec 32) (k0_hw653 : k0_chk653 i v2151), ∀ (k0_h3 : k0_cond3 i = 1#1), ∀ a, (k0_off2629 v2151) a + S8x128.size a ≤ S131072x128.size a := fun i v2151 k0_hw653 k0_h3 => k0_hw653.2 k0_h3

def k0_off2630 (i : grid0.Coords) : Fin 3 → Nat :=
  let c0_1299 : Index := 0#32
  let c0_1300 : Index := 0#32
  let arg1 : BitVec 32 := BitVec.ofNat 32 (i 1).val
  let c2_i32_1295 : BitVec 32 := 2#32
  let v2160 : BitVec 32 := Scalar.muli arg1 c2_i32_1295
  let c0_i32_1296 : BitVec 32 := 0#32
  let v2161 : BitVec 32 := Scalar.addi v2160 c0_i32_1296
  let c256_i32_1297 : BitVec 32 := 256#32
  let v2162 : BitVec 32 := Scalar.muli v2161 c256_i32_1297
  let c140_i32 : BitVec 32 := 140#32
  let v2163 : BitVec 32 := Scalar.addi v2162 c140_i32
  let v2165 : Index := Scalar.indexCast v2163
  ![0, 0, v2165.toNat]
def k0_mult1307 (v2166 : BitVec 32) : BitVec 32 :=
  v2166

def k0_mult1308 (i : grid0.Coords) : BitVec 32 :=
  let arg1 : BitVec 32 := BitVec.ofNat 32 (i 1).val
  let c2_i32_1295 : BitVec 32 := 2#32
  let v2160 : BitVec 32 := Scalar.muli arg1 c2_i32_1295
  let c0_i32_1296 : BitVec 32 := 0#32
  let v2161 : BitVec 32 := Scalar.addi v2160 c0_i32_1296
  let c256_i32_1297 : BitVec 32 := 256#32
  let v2162 : BitVec 32 := Scalar.muli v2161 c256_i32_1297
  let c140_i32 : BitVec 32 := 140#32
  let v2163 : BitVec 32 := Scalar.addi v2162 c140_i32
  let c8_i32_1301 : BitVec 32 := 8#32
  let v2168 : BitVec 32 := Scalar.muli v2163 c8_i32_1301
  v2168
def k0_off2631 (i : grid0.Coords) : Fin 1 → Nat :=
  let c1_i32_1298 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2164 : BitVec 32 := Scalar.subi c1_i32_1298 v9
  ![v2164.toNat]
def k0_off2632 (i : grid0.Coords) : Fin 3 → Nat :=
  let c1_i32_1298 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2164 : BitVec 32 := Scalar.subi c1_i32_1298 v9
  let arg1 : BitVec 32 := BitVec.ofNat 32 (i 1).val
  let c2_i32_1295 : BitVec 32 := 2#32
  let v2160 : BitVec 32 := Scalar.muli arg1 c2_i32_1295
  let c0_i32_1296 : BitVec 32 := 0#32
  let v2161 : BitVec 32 := Scalar.addi v2160 c0_i32_1296
  let c256_i32_1297 : BitVec 32 := 256#32
  let v2162 : BitVec 32 := Scalar.muli v2161 c256_i32_1297
  let c140_i32 : BitVec 32 := 140#32
  let v2163 : BitVec 32 := Scalar.addi v2162 c140_i32
  let c8_i32_1301 : BitVec 32 := 8#32
  let v2168 : BitVec 32 := Scalar.muli v2163 c8_i32_1301
  let v2169 : BitVec 32 := v2168
  let c0_i32_1302 : BitVec 32 := 0#32
  ![v2164.toNat, v2169.toNat, 0]
def k0_off2633 (v2166 : BitVec 32) : Fin 2 → Nat :=
  let v2167 : BitVec 32 := v2166
  let c0_i32_1303 : BitVec 32 := 0#32
  ![v2167.toNat, 0]

def k0_chk654 (i : grid0.Coords) (v2166 : BitVec 32) : Prop :=
  (∀ (k0_h3 : k0_cond3 i = 1#1), 8 ∣ (k0_mult1307 v2166).toNat) ∧
  (∀ (k0_h3 : k0_cond3 i = 1#1), ∀ a, (k0_off2633 v2166) a + S8x128.size a ≤ S131072x128.size a)
theorem k0_mult1307_dvd : ∀ (i : grid0.Coords) (v2166 : BitVec 32) (k0_hw654 : k0_chk654 i v2166), ∀ (k0_h3 : k0_cond3 i = 1#1), 8 ∣ (k0_mult1307 v2166).toNat := fun i v2166 k0_hw654 k0_h3 => k0_hw654.1 k0_h3
theorem k0_off2633_inb : ∀ (i : grid0.Coords) (v2166 : BitVec 32) (k0_hw654 : k0_chk654 i v2166), ∀ (k0_h3 : k0_cond3 i = 1#1), ∀ a, (k0_off2633 v2166) a + S8x128.size a ≤ S131072x128.size a := fun i v2166 k0_hw654 k0_h3 => k0_hw654.2 k0_h3

def k0_off2634 (i : grid0.Coords) : Fin 3 → Nat :=
  let c0_1308 : Index := 0#32
  let c0_1309 : Index := 0#32
  let arg1 : BitVec 32 := BitVec.ofNat 32 (i 1).val
  let c2_i32_1304 : BitVec 32 := 2#32
  let v2175 : BitVec 32 := Scalar.muli arg1 c2_i32_1304
  let c0_i32_1305 : BitVec 32 := 0#32
  let v2176 : BitVec 32 := Scalar.addi v2175 c0_i32_1305
  let c256_i32_1306 : BitVec 32 := 256#32
  let v2177 : BitVec 32 := Scalar.muli v2176 c256_i32_1306
  let c141_i32 : BitVec 32 := 141#32
  let v2178 : BitVec 32 := Scalar.addi v2177 c141_i32
  let v2180 : Index := Scalar.indexCast v2178
  ![0, 0, v2180.toNat]
def k0_mult1309 (v2181 : BitVec 32) : BitVec 32 :=
  v2181

def k0_mult1310 (i : grid0.Coords) : BitVec 32 :=
  let arg1 : BitVec 32 := BitVec.ofNat 32 (i 1).val
  let c2_i32_1304 : BitVec 32 := 2#32
  let v2175 : BitVec 32 := Scalar.muli arg1 c2_i32_1304
  let c0_i32_1305 : BitVec 32 := 0#32
  let v2176 : BitVec 32 := Scalar.addi v2175 c0_i32_1305
  let c256_i32_1306 : BitVec 32 := 256#32
  let v2177 : BitVec 32 := Scalar.muli v2176 c256_i32_1306
  let c141_i32 : BitVec 32 := 141#32
  let v2178 : BitVec 32 := Scalar.addi v2177 c141_i32
  let c8_i32_1310 : BitVec 32 := 8#32
  let v2183 : BitVec 32 := Scalar.muli v2178 c8_i32_1310
  v2183
def k0_off2635 (i : grid0.Coords) : Fin 1 → Nat :=
  let c1_i32_1307 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2179 : BitVec 32 := Scalar.subi c1_i32_1307 v9
  ![v2179.toNat]
def k0_off2636 (i : grid0.Coords) : Fin 3 → Nat :=
  let c1_i32_1307 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2179 : BitVec 32 := Scalar.subi c1_i32_1307 v9
  let arg1 : BitVec 32 := BitVec.ofNat 32 (i 1).val
  let c2_i32_1304 : BitVec 32 := 2#32
  let v2175 : BitVec 32 := Scalar.muli arg1 c2_i32_1304
  let c0_i32_1305 : BitVec 32 := 0#32
  let v2176 : BitVec 32 := Scalar.addi v2175 c0_i32_1305
  let c256_i32_1306 : BitVec 32 := 256#32
  let v2177 : BitVec 32 := Scalar.muli v2176 c256_i32_1306
  let c141_i32 : BitVec 32 := 141#32
  let v2178 : BitVec 32 := Scalar.addi v2177 c141_i32
  let c8_i32_1310 : BitVec 32 := 8#32
  let v2183 : BitVec 32 := Scalar.muli v2178 c8_i32_1310
  let v2184 : BitVec 32 := v2183
  let c0_i32_1311 : BitVec 32 := 0#32
  ![v2179.toNat, v2184.toNat, 0]
def k0_off2637 (v2181 : BitVec 32) : Fin 2 → Nat :=
  let v2182 : BitVec 32 := v2181
  let c0_i32_1312 : BitVec 32 := 0#32
  ![v2182.toNat, 0]

def k0_chk655 (i : grid0.Coords) (v2181 : BitVec 32) : Prop :=
  (∀ (k0_h3 : k0_cond3 i = 1#1), 8 ∣ (k0_mult1309 v2181).toNat) ∧
  (∀ (k0_h3 : k0_cond3 i = 1#1), ∀ a, (k0_off2637 v2181) a + S8x128.size a ≤ S131072x128.size a)
theorem k0_mult1309_dvd : ∀ (i : grid0.Coords) (v2181 : BitVec 32) (k0_hw655 : k0_chk655 i v2181), ∀ (k0_h3 : k0_cond3 i = 1#1), 8 ∣ (k0_mult1309 v2181).toNat := fun i v2181 k0_hw655 k0_h3 => k0_hw655.1 k0_h3
theorem k0_off2637_inb : ∀ (i : grid0.Coords) (v2181 : BitVec 32) (k0_hw655 : k0_chk655 i v2181), ∀ (k0_h3 : k0_cond3 i = 1#1), ∀ a, (k0_off2637 v2181) a + S8x128.size a ≤ S131072x128.size a := fun i v2181 k0_hw655 k0_h3 => k0_hw655.2 k0_h3

def k0_off2638 (i : grid0.Coords) : Fin 3 → Nat :=
  let c0_1317 : Index := 0#32
  let c0_1318 : Index := 0#32
  let arg1 : BitVec 32 := BitVec.ofNat 32 (i 1).val
  let c2_i32_1313 : BitVec 32 := 2#32
  let v2190 : BitVec 32 := Scalar.muli arg1 c2_i32_1313
  let c0_i32_1314 : BitVec 32 := 0#32
  let v2191 : BitVec 32 := Scalar.addi v2190 c0_i32_1314
  let c256_i32_1315 : BitVec 32 := 256#32
  let v2192 : BitVec 32 := Scalar.muli v2191 c256_i32_1315
  let c142_i32 : BitVec 32 := 142#32
  let v2193 : BitVec 32 := Scalar.addi v2192 c142_i32
  let v2195 : Index := Scalar.indexCast v2193
  ![0, 0, v2195.toNat]
def k0_mult1311 (v2196 : BitVec 32) : BitVec 32 :=
  v2196

def k0_mult1312 (i : grid0.Coords) : BitVec 32 :=
  let arg1 : BitVec 32 := BitVec.ofNat 32 (i 1).val
  let c2_i32_1313 : BitVec 32 := 2#32
  let v2190 : BitVec 32 := Scalar.muli arg1 c2_i32_1313
  let c0_i32_1314 : BitVec 32 := 0#32
  let v2191 : BitVec 32 := Scalar.addi v2190 c0_i32_1314
  let c256_i32_1315 : BitVec 32 := 256#32
  let v2192 : BitVec 32 := Scalar.muli v2191 c256_i32_1315
  let c142_i32 : BitVec 32 := 142#32
  let v2193 : BitVec 32 := Scalar.addi v2192 c142_i32
  let c8_i32_1319 : BitVec 32 := 8#32
  let v2198 : BitVec 32 := Scalar.muli v2193 c8_i32_1319
  v2198
def k0_off2639 (i : grid0.Coords) : Fin 1 → Nat :=
  let c1_i32_1316 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2194 : BitVec 32 := Scalar.subi c1_i32_1316 v9
  ![v2194.toNat]
def k0_off2640 (i : grid0.Coords) : Fin 3 → Nat :=
  let c1_i32_1316 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2194 : BitVec 32 := Scalar.subi c1_i32_1316 v9
  let arg1 : BitVec 32 := BitVec.ofNat 32 (i 1).val
  let c2_i32_1313 : BitVec 32 := 2#32
  let v2190 : BitVec 32 := Scalar.muli arg1 c2_i32_1313
  let c0_i32_1314 : BitVec 32 := 0#32
  let v2191 : BitVec 32 := Scalar.addi v2190 c0_i32_1314
  let c256_i32_1315 : BitVec 32 := 256#32
  let v2192 : BitVec 32 := Scalar.muli v2191 c256_i32_1315
  let c142_i32 : BitVec 32 := 142#32
  let v2193 : BitVec 32 := Scalar.addi v2192 c142_i32
  let c8_i32_1319 : BitVec 32 := 8#32
  let v2198 : BitVec 32 := Scalar.muli v2193 c8_i32_1319
  let v2199 : BitVec 32 := v2198
  let c0_i32_1320 : BitVec 32 := 0#32
  ![v2194.toNat, v2199.toNat, 0]
def k0_off2641 (v2196 : BitVec 32) : Fin 2 → Nat :=
  let v2197 : BitVec 32 := v2196
  let c0_i32_1321 : BitVec 32 := 0#32
  ![v2197.toNat, 0]

def k0_chk656 (i : grid0.Coords) (v2196 : BitVec 32) : Prop :=
  (∀ (k0_h3 : k0_cond3 i = 1#1), 8 ∣ (k0_mult1311 v2196).toNat) ∧
  (∀ (k0_h3 : k0_cond3 i = 1#1), ∀ a, (k0_off2641 v2196) a + S8x128.size a ≤ S131072x128.size a)
theorem k0_mult1311_dvd : ∀ (i : grid0.Coords) (v2196 : BitVec 32) (k0_hw656 : k0_chk656 i v2196), ∀ (k0_h3 : k0_cond3 i = 1#1), 8 ∣ (k0_mult1311 v2196).toNat := fun i v2196 k0_hw656 k0_h3 => k0_hw656.1 k0_h3
theorem k0_off2641_inb : ∀ (i : grid0.Coords) (v2196 : BitVec 32) (k0_hw656 : k0_chk656 i v2196), ∀ (k0_h3 : k0_cond3 i = 1#1), ∀ a, (k0_off2641 v2196) a + S8x128.size a ≤ S131072x128.size a := fun i v2196 k0_hw656 k0_h3 => k0_hw656.2 k0_h3

def k0_off2642 (i : grid0.Coords) : Fin 3 → Nat :=
  let c0_1326 : Index := 0#32
  let c0_1327 : Index := 0#32
  let arg1 : BitVec 32 := BitVec.ofNat 32 (i 1).val
  let c2_i32_1322 : BitVec 32 := 2#32
  let v2205 : BitVec 32 := Scalar.muli arg1 c2_i32_1322
  let c0_i32_1323 : BitVec 32 := 0#32
  let v2206 : BitVec 32 := Scalar.addi v2205 c0_i32_1323
  let c256_i32_1324 : BitVec 32 := 256#32
  let v2207 : BitVec 32 := Scalar.muli v2206 c256_i32_1324
  let c143_i32 : BitVec 32 := 143#32
  let v2208 : BitVec 32 := Scalar.addi v2207 c143_i32
  let v2210 : Index := Scalar.indexCast v2208
  ![0, 0, v2210.toNat]
def k0_mult1313 (v2211 : BitVec 32) : BitVec 32 :=
  v2211

def k0_mult1314 (i : grid0.Coords) : BitVec 32 :=
  let arg1 : BitVec 32 := BitVec.ofNat 32 (i 1).val
  let c2_i32_1322 : BitVec 32 := 2#32
  let v2205 : BitVec 32 := Scalar.muli arg1 c2_i32_1322
  let c0_i32_1323 : BitVec 32 := 0#32
  let v2206 : BitVec 32 := Scalar.addi v2205 c0_i32_1323
  let c256_i32_1324 : BitVec 32 := 256#32
  let v2207 : BitVec 32 := Scalar.muli v2206 c256_i32_1324
  let c143_i32 : BitVec 32 := 143#32
  let v2208 : BitVec 32 := Scalar.addi v2207 c143_i32
  let c8_i32_1328 : BitVec 32 := 8#32
  let v2213 : BitVec 32 := Scalar.muli v2208 c8_i32_1328
  v2213
def k0_off2643 (i : grid0.Coords) : Fin 1 → Nat :=
  let c1_i32_1325 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2209 : BitVec 32 := Scalar.subi c1_i32_1325 v9
  ![v2209.toNat]
def k0_off2644 (i : grid0.Coords) : Fin 3 → Nat :=
  let c1_i32_1325 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2209 : BitVec 32 := Scalar.subi c1_i32_1325 v9
  let arg1 : BitVec 32 := BitVec.ofNat 32 (i 1).val
  let c2_i32_1322 : BitVec 32 := 2#32
  let v2205 : BitVec 32 := Scalar.muli arg1 c2_i32_1322
  let c0_i32_1323 : BitVec 32 := 0#32
  let v2206 : BitVec 32 := Scalar.addi v2205 c0_i32_1323
  let c256_i32_1324 : BitVec 32 := 256#32
  let v2207 : BitVec 32 := Scalar.muli v2206 c256_i32_1324
  let c143_i32 : BitVec 32 := 143#32
  let v2208 : BitVec 32 := Scalar.addi v2207 c143_i32
  let c8_i32_1328 : BitVec 32 := 8#32
  let v2213 : BitVec 32 := Scalar.muli v2208 c8_i32_1328
  let v2214 : BitVec 32 := v2213
  let c0_i32_1329 : BitVec 32 := 0#32
  ![v2209.toNat, v2214.toNat, 0]
def k0_off2645 (v2211 : BitVec 32) : Fin 2 → Nat :=
  let v2212 : BitVec 32 := v2211
  let c0_i32_1330 : BitVec 32 := 0#32
  ![v2212.toNat, 0]

def k0_chk657 (i : grid0.Coords) (v2211 : BitVec 32) : Prop :=
  (∀ (k0_h3 : k0_cond3 i = 1#1), 8 ∣ (k0_mult1313 v2211).toNat) ∧
  (∀ (k0_h3 : k0_cond3 i = 1#1), ∀ a, (k0_off2645 v2211) a + S8x128.size a ≤ S131072x128.size a)
theorem k0_mult1313_dvd : ∀ (i : grid0.Coords) (v2211 : BitVec 32) (k0_hw657 : k0_chk657 i v2211), ∀ (k0_h3 : k0_cond3 i = 1#1), 8 ∣ (k0_mult1313 v2211).toNat := fun i v2211 k0_hw657 k0_h3 => k0_hw657.1 k0_h3
theorem k0_off2645_inb : ∀ (i : grid0.Coords) (v2211 : BitVec 32) (k0_hw657 : k0_chk657 i v2211), ∀ (k0_h3 : k0_cond3 i = 1#1), ∀ a, (k0_off2645 v2211) a + S8x128.size a ≤ S131072x128.size a := fun i v2211 k0_hw657 k0_h3 => k0_hw657.2 k0_h3

def k0_off2646 (i : grid0.Coords) : Fin 3 → Nat :=
  let c0_1335 : Index := 0#32
  let c0_1336 : Index := 0#32
  let arg1 : BitVec 32 := BitVec.ofNat 32 (i 1).val
  let c2_i32_1331 : BitVec 32 := 2#32
  let v2220 : BitVec 32 := Scalar.muli arg1 c2_i32_1331
  let c0_i32_1332 : BitVec 32 := 0#32
  let v2221 : BitVec 32 := Scalar.addi v2220 c0_i32_1332
  let c256_i32_1333 : BitVec 32 := 256#32
  let v2222 : BitVec 32 := Scalar.muli v2221 c256_i32_1333
  let c144_i32 : BitVec 32 := 144#32
  let v2223 : BitVec 32 := Scalar.addi v2222 c144_i32
  let v2225 : Index := Scalar.indexCast v2223
  ![0, 0, v2225.toNat]
def k0_mult1315 (v2226 : BitVec 32) : BitVec 32 :=
  v2226

def k0_mult1316 (i : grid0.Coords) : BitVec 32 :=
  let arg1 : BitVec 32 := BitVec.ofNat 32 (i 1).val
  let c2_i32_1331 : BitVec 32 := 2#32
  let v2220 : BitVec 32 := Scalar.muli arg1 c2_i32_1331
  let c0_i32_1332 : BitVec 32 := 0#32
  let v2221 : BitVec 32 := Scalar.addi v2220 c0_i32_1332
  let c256_i32_1333 : BitVec 32 := 256#32
  let v2222 : BitVec 32 := Scalar.muli v2221 c256_i32_1333
  let c144_i32 : BitVec 32 := 144#32
  let v2223 : BitVec 32 := Scalar.addi v2222 c144_i32
  let c8_i32_1337 : BitVec 32 := 8#32
  let v2228 : BitVec 32 := Scalar.muli v2223 c8_i32_1337
  v2228
def k0_off2647 (i : grid0.Coords) : Fin 1 → Nat :=
  let c1_i32_1334 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2224 : BitVec 32 := Scalar.subi c1_i32_1334 v9
  ![v2224.toNat]
def k0_off2648 (i : grid0.Coords) : Fin 3 → Nat :=
  let c1_i32_1334 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2224 : BitVec 32 := Scalar.subi c1_i32_1334 v9
  let arg1 : BitVec 32 := BitVec.ofNat 32 (i 1).val
  let c2_i32_1331 : BitVec 32 := 2#32
  let v2220 : BitVec 32 := Scalar.muli arg1 c2_i32_1331
  let c0_i32_1332 : BitVec 32 := 0#32
  let v2221 : BitVec 32 := Scalar.addi v2220 c0_i32_1332
  let c256_i32_1333 : BitVec 32 := 256#32
  let v2222 : BitVec 32 := Scalar.muli v2221 c256_i32_1333
  let c144_i32 : BitVec 32 := 144#32
  let v2223 : BitVec 32 := Scalar.addi v2222 c144_i32
  let c8_i32_1337 : BitVec 32 := 8#32
  let v2228 : BitVec 32 := Scalar.muli v2223 c8_i32_1337
  let v2229 : BitVec 32 := v2228
  let c0_i32_1338 : BitVec 32 := 0#32
  ![v2224.toNat, v2229.toNat, 0]
def k0_off2649 (v2226 : BitVec 32) : Fin 2 → Nat :=
  let v2227 : BitVec 32 := v2226
  let c0_i32_1339 : BitVec 32 := 0#32
  ![v2227.toNat, 0]

def k0_chk658 (i : grid0.Coords) (v2226 : BitVec 32) : Prop :=
  (∀ (k0_h3 : k0_cond3 i = 1#1), 8 ∣ (k0_mult1315 v2226).toNat) ∧
  (∀ (k0_h3 : k0_cond3 i = 1#1), ∀ a, (k0_off2649 v2226) a + S8x128.size a ≤ S131072x128.size a)
theorem k0_mult1315_dvd : ∀ (i : grid0.Coords) (v2226 : BitVec 32) (k0_hw658 : k0_chk658 i v2226), ∀ (k0_h3 : k0_cond3 i = 1#1), 8 ∣ (k0_mult1315 v2226).toNat := fun i v2226 k0_hw658 k0_h3 => k0_hw658.1 k0_h3
theorem k0_off2649_inb : ∀ (i : grid0.Coords) (v2226 : BitVec 32) (k0_hw658 : k0_chk658 i v2226), ∀ (k0_h3 : k0_cond3 i = 1#1), ∀ a, (k0_off2649 v2226) a + S8x128.size a ≤ S131072x128.size a := fun i v2226 k0_hw658 k0_h3 => k0_hw658.2 k0_h3

def k0_off2650 (i : grid0.Coords) : Fin 3 → Nat :=
  let c0_1344 : Index := 0#32
  let c0_1345 : Index := 0#32
  let arg1 : BitVec 32 := BitVec.ofNat 32 (i 1).val
  let c2_i32_1340 : BitVec 32 := 2#32
  let v2235 : BitVec 32 := Scalar.muli arg1 c2_i32_1340
  let c0_i32_1341 : BitVec 32 := 0#32
  let v2236 : BitVec 32 := Scalar.addi v2235 c0_i32_1341
  let c256_i32_1342 : BitVec 32 := 256#32
  let v2237 : BitVec 32 := Scalar.muli v2236 c256_i32_1342
  let c145_i32 : BitVec 32 := 145#32
  let v2238 : BitVec 32 := Scalar.addi v2237 c145_i32
  let v2240 : Index := Scalar.indexCast v2238
  ![0, 0, v2240.toNat]
def k0_mult1317 (v2241 : BitVec 32) : BitVec 32 :=
  v2241

def k0_mult1318 (i : grid0.Coords) : BitVec 32 :=
  let arg1 : BitVec 32 := BitVec.ofNat 32 (i 1).val
  let c2_i32_1340 : BitVec 32 := 2#32
  let v2235 : BitVec 32 := Scalar.muli arg1 c2_i32_1340
  let c0_i32_1341 : BitVec 32 := 0#32
  let v2236 : BitVec 32 := Scalar.addi v2235 c0_i32_1341
  let c256_i32_1342 : BitVec 32 := 256#32
  let v2237 : BitVec 32 := Scalar.muli v2236 c256_i32_1342
  let c145_i32 : BitVec 32 := 145#32
  let v2238 : BitVec 32 := Scalar.addi v2237 c145_i32
  let c8_i32_1346 : BitVec 32 := 8#32
  let v2243 : BitVec 32 := Scalar.muli v2238 c8_i32_1346
  v2243
def k0_off2651 (i : grid0.Coords) : Fin 1 → Nat :=
  let c1_i32_1343 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2239 : BitVec 32 := Scalar.subi c1_i32_1343 v9
  ![v2239.toNat]
def k0_off2652 (i : grid0.Coords) : Fin 3 → Nat :=
  let c1_i32_1343 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2239 : BitVec 32 := Scalar.subi c1_i32_1343 v9
  let arg1 : BitVec 32 := BitVec.ofNat 32 (i 1).val
  let c2_i32_1340 : BitVec 32 := 2#32
  let v2235 : BitVec 32 := Scalar.muli arg1 c2_i32_1340
  let c0_i32_1341 : BitVec 32 := 0#32
  let v2236 : BitVec 32 := Scalar.addi v2235 c0_i32_1341
  let c256_i32_1342 : BitVec 32 := 256#32
  let v2237 : BitVec 32 := Scalar.muli v2236 c256_i32_1342
  let c145_i32 : BitVec 32 := 145#32
  let v2238 : BitVec 32 := Scalar.addi v2237 c145_i32
  let c8_i32_1346 : BitVec 32 := 8#32
  let v2243 : BitVec 32 := Scalar.muli v2238 c8_i32_1346
  let v2244 : BitVec 32 := v2243
  let c0_i32_1347 : BitVec 32 := 0#32
  ![v2239.toNat, v2244.toNat, 0]
def k0_off2653 (v2241 : BitVec 32) : Fin 2 → Nat :=
  let v2242 : BitVec 32 := v2241
  let c0_i32_1348 : BitVec 32 := 0#32
  ![v2242.toNat, 0]

def k0_chk659 (i : grid0.Coords) (v2241 : BitVec 32) : Prop :=
  (∀ (k0_h3 : k0_cond3 i = 1#1), 8 ∣ (k0_mult1317 v2241).toNat) ∧
  (∀ (k0_h3 : k0_cond3 i = 1#1), ∀ a, (k0_off2653 v2241) a + S8x128.size a ≤ S131072x128.size a)
theorem k0_mult1317_dvd : ∀ (i : grid0.Coords) (v2241 : BitVec 32) (k0_hw659 : k0_chk659 i v2241), ∀ (k0_h3 : k0_cond3 i = 1#1), 8 ∣ (k0_mult1317 v2241).toNat := fun i v2241 k0_hw659 k0_h3 => k0_hw659.1 k0_h3
theorem k0_off2653_inb : ∀ (i : grid0.Coords) (v2241 : BitVec 32) (k0_hw659 : k0_chk659 i v2241), ∀ (k0_h3 : k0_cond3 i = 1#1), ∀ a, (k0_off2653 v2241) a + S8x128.size a ≤ S131072x128.size a := fun i v2241 k0_hw659 k0_h3 => k0_hw659.2 k0_h3

def k0_off2654 (i : grid0.Coords) : Fin 3 → Nat :=
  let c0_1353 : Index := 0#32
  let c0_1354 : Index := 0#32
  let arg1 : BitVec 32 := BitVec.ofNat 32 (i 1).val
  let c2_i32_1349 : BitVec 32 := 2#32
  let v2250 : BitVec 32 := Scalar.muli arg1 c2_i32_1349
  let c0_i32_1350 : BitVec 32 := 0#32
  let v2251 : BitVec 32 := Scalar.addi v2250 c0_i32_1350
  let c256_i32_1351 : BitVec 32 := 256#32
  let v2252 : BitVec 32 := Scalar.muli v2251 c256_i32_1351
  let c146_i32 : BitVec 32 := 146#32
  let v2253 : BitVec 32 := Scalar.addi v2252 c146_i32
  let v2255 : Index := Scalar.indexCast v2253
  ![0, 0, v2255.toNat]
def k0_mult1319 (v2256 : BitVec 32) : BitVec 32 :=
  v2256

def k0_mult1320 (i : grid0.Coords) : BitVec 32 :=
  let arg1 : BitVec 32 := BitVec.ofNat 32 (i 1).val
  let c2_i32_1349 : BitVec 32 := 2#32
  let v2250 : BitVec 32 := Scalar.muli arg1 c2_i32_1349
  let c0_i32_1350 : BitVec 32 := 0#32
  let v2251 : BitVec 32 := Scalar.addi v2250 c0_i32_1350
  let c256_i32_1351 : BitVec 32 := 256#32
  let v2252 : BitVec 32 := Scalar.muli v2251 c256_i32_1351
  let c146_i32 : BitVec 32 := 146#32
  let v2253 : BitVec 32 := Scalar.addi v2252 c146_i32
  let c8_i32_1355 : BitVec 32 := 8#32
  let v2258 : BitVec 32 := Scalar.muli v2253 c8_i32_1355
  v2258
def k0_off2655 (i : grid0.Coords) : Fin 1 → Nat :=
  let c1_i32_1352 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2254 : BitVec 32 := Scalar.subi c1_i32_1352 v9
  ![v2254.toNat]
def k0_off2656 (i : grid0.Coords) : Fin 3 → Nat :=
  let c1_i32_1352 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2254 : BitVec 32 := Scalar.subi c1_i32_1352 v9
  let arg1 : BitVec 32 := BitVec.ofNat 32 (i 1).val
  let c2_i32_1349 : BitVec 32 := 2#32
  let v2250 : BitVec 32 := Scalar.muli arg1 c2_i32_1349
  let c0_i32_1350 : BitVec 32 := 0#32
  let v2251 : BitVec 32 := Scalar.addi v2250 c0_i32_1350
  let c256_i32_1351 : BitVec 32 := 256#32
  let v2252 : BitVec 32 := Scalar.muli v2251 c256_i32_1351
  let c146_i32 : BitVec 32 := 146#32
  let v2253 : BitVec 32 := Scalar.addi v2252 c146_i32
  let c8_i32_1355 : BitVec 32 := 8#32
  let v2258 : BitVec 32 := Scalar.muli v2253 c8_i32_1355
  let v2259 : BitVec 32 := v2258
  let c0_i32_1356 : BitVec 32 := 0#32
  ![v2254.toNat, v2259.toNat, 0]
def k0_off2657 (v2256 : BitVec 32) : Fin 2 → Nat :=
  let v2257 : BitVec 32 := v2256
  let c0_i32_1357 : BitVec 32 := 0#32
  ![v2257.toNat, 0]

def k0_chk660 (i : grid0.Coords) (v2256 : BitVec 32) : Prop :=
  (∀ (k0_h3 : k0_cond3 i = 1#1), 8 ∣ (k0_mult1319 v2256).toNat) ∧
  (∀ (k0_h3 : k0_cond3 i = 1#1), ∀ a, (k0_off2657 v2256) a + S8x128.size a ≤ S131072x128.size a)
theorem k0_mult1319_dvd : ∀ (i : grid0.Coords) (v2256 : BitVec 32) (k0_hw660 : k0_chk660 i v2256), ∀ (k0_h3 : k0_cond3 i = 1#1), 8 ∣ (k0_mult1319 v2256).toNat := fun i v2256 k0_hw660 k0_h3 => k0_hw660.1 k0_h3
theorem k0_off2657_inb : ∀ (i : grid0.Coords) (v2256 : BitVec 32) (k0_hw660 : k0_chk660 i v2256), ∀ (k0_h3 : k0_cond3 i = 1#1), ∀ a, (k0_off2657 v2256) a + S8x128.size a ≤ S131072x128.size a := fun i v2256 k0_hw660 k0_h3 => k0_hw660.2 k0_h3

def k0_off2658 (i : grid0.Coords) : Fin 3 → Nat :=
  let c0_1362 : Index := 0#32
  let c0_1363 : Index := 0#32
  let arg1 : BitVec 32 := BitVec.ofNat 32 (i 1).val
  let c2_i32_1358 : BitVec 32 := 2#32
  let v2265 : BitVec 32 := Scalar.muli arg1 c2_i32_1358
  let c0_i32_1359 : BitVec 32 := 0#32
  let v2266 : BitVec 32 := Scalar.addi v2265 c0_i32_1359
  let c256_i32_1360 : BitVec 32 := 256#32
  let v2267 : BitVec 32 := Scalar.muli v2266 c256_i32_1360
  let c147_i32 : BitVec 32 := 147#32
  let v2268 : BitVec 32 := Scalar.addi v2267 c147_i32
  let v2270 : Index := Scalar.indexCast v2268
  ![0, 0, v2270.toNat]
def k0_mult1321 (v2271 : BitVec 32) : BitVec 32 :=
  v2271

def k0_mult1322 (i : grid0.Coords) : BitVec 32 :=
  let arg1 : BitVec 32 := BitVec.ofNat 32 (i 1).val
  let c2_i32_1358 : BitVec 32 := 2#32
  let v2265 : BitVec 32 := Scalar.muli arg1 c2_i32_1358
  let c0_i32_1359 : BitVec 32 := 0#32
  let v2266 : BitVec 32 := Scalar.addi v2265 c0_i32_1359
  let c256_i32_1360 : BitVec 32 := 256#32
  let v2267 : BitVec 32 := Scalar.muli v2266 c256_i32_1360
  let c147_i32 : BitVec 32 := 147#32
  let v2268 : BitVec 32 := Scalar.addi v2267 c147_i32
  let c8_i32_1364 : BitVec 32 := 8#32
  let v2273 : BitVec 32 := Scalar.muli v2268 c8_i32_1364
  v2273
def k0_off2659 (i : grid0.Coords) : Fin 1 → Nat :=
  let c1_i32_1361 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2269 : BitVec 32 := Scalar.subi c1_i32_1361 v9
  ![v2269.toNat]
def k0_off2660 (i : grid0.Coords) : Fin 3 → Nat :=
  let c1_i32_1361 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2269 : BitVec 32 := Scalar.subi c1_i32_1361 v9
  let arg1 : BitVec 32 := BitVec.ofNat 32 (i 1).val
  let c2_i32_1358 : BitVec 32 := 2#32
  let v2265 : BitVec 32 := Scalar.muli arg1 c2_i32_1358
  let c0_i32_1359 : BitVec 32 := 0#32
  let v2266 : BitVec 32 := Scalar.addi v2265 c0_i32_1359
  let c256_i32_1360 : BitVec 32 := 256#32
  let v2267 : BitVec 32 := Scalar.muli v2266 c256_i32_1360
  let c147_i32 : BitVec 32 := 147#32
  let v2268 : BitVec 32 := Scalar.addi v2267 c147_i32
  let c8_i32_1364 : BitVec 32 := 8#32
  let v2273 : BitVec 32 := Scalar.muli v2268 c8_i32_1364
  let v2274 : BitVec 32 := v2273
  let c0_i32_1365 : BitVec 32 := 0#32
  ![v2269.toNat, v2274.toNat, 0]
def k0_off2661 (v2271 : BitVec 32) : Fin 2 → Nat :=
  let v2272 : BitVec 32 := v2271
  let c0_i32_1366 : BitVec 32 := 0#32
  ![v2272.toNat, 0]

def k0_chk661 (i : grid0.Coords) (v2271 : BitVec 32) : Prop :=
  (∀ (k0_h3 : k0_cond3 i = 1#1), 8 ∣ (k0_mult1321 v2271).toNat) ∧
  (∀ (k0_h3 : k0_cond3 i = 1#1), ∀ a, (k0_off2661 v2271) a + S8x128.size a ≤ S131072x128.size a)
theorem k0_mult1321_dvd : ∀ (i : grid0.Coords) (v2271 : BitVec 32) (k0_hw661 : k0_chk661 i v2271), ∀ (k0_h3 : k0_cond3 i = 1#1), 8 ∣ (k0_mult1321 v2271).toNat := fun i v2271 k0_hw661 k0_h3 => k0_hw661.1 k0_h3
theorem k0_off2661_inb : ∀ (i : grid0.Coords) (v2271 : BitVec 32) (k0_hw661 : k0_chk661 i v2271), ∀ (k0_h3 : k0_cond3 i = 1#1), ∀ a, (k0_off2661 v2271) a + S8x128.size a ≤ S131072x128.size a := fun i v2271 k0_hw661 k0_h3 => k0_hw661.2 k0_h3

def k0_off2662 (i : grid0.Coords) : Fin 3 → Nat :=
  let c0_1371 : Index := 0#32
  let c0_1372 : Index := 0#32
  let arg1 : BitVec 32 := BitVec.ofNat 32 (i 1).val
  let c2_i32_1367 : BitVec 32 := 2#32
  let v2280 : BitVec 32 := Scalar.muli arg1 c2_i32_1367
  let c0_i32_1368 : BitVec 32 := 0#32
  let v2281 : BitVec 32 := Scalar.addi v2280 c0_i32_1368
  let c256_i32_1369 : BitVec 32 := 256#32
  let v2282 : BitVec 32 := Scalar.muli v2281 c256_i32_1369
  let c148_i32 : BitVec 32 := 148#32
  let v2283 : BitVec 32 := Scalar.addi v2282 c148_i32
  let v2285 : Index := Scalar.indexCast v2283
  ![0, 0, v2285.toNat]
def k0_mult1323 (v2286 : BitVec 32) : BitVec 32 :=
  v2286

def k0_mult1324 (i : grid0.Coords) : BitVec 32 :=
  let arg1 : BitVec 32 := BitVec.ofNat 32 (i 1).val
  let c2_i32_1367 : BitVec 32 := 2#32
  let v2280 : BitVec 32 := Scalar.muli arg1 c2_i32_1367
  let c0_i32_1368 : BitVec 32 := 0#32
  let v2281 : BitVec 32 := Scalar.addi v2280 c0_i32_1368
  let c256_i32_1369 : BitVec 32 := 256#32
  let v2282 : BitVec 32 := Scalar.muli v2281 c256_i32_1369
  let c148_i32 : BitVec 32 := 148#32
  let v2283 : BitVec 32 := Scalar.addi v2282 c148_i32
  let c8_i32_1373 : BitVec 32 := 8#32
  let v2288 : BitVec 32 := Scalar.muli v2283 c8_i32_1373
  v2288
def k0_off2663 (i : grid0.Coords) : Fin 1 → Nat :=
  let c1_i32_1370 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2284 : BitVec 32 := Scalar.subi c1_i32_1370 v9
  ![v2284.toNat]
def k0_off2664 (i : grid0.Coords) : Fin 3 → Nat :=
  let c1_i32_1370 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2284 : BitVec 32 := Scalar.subi c1_i32_1370 v9
  let arg1 : BitVec 32 := BitVec.ofNat 32 (i 1).val
  let c2_i32_1367 : BitVec 32 := 2#32
  let v2280 : BitVec 32 := Scalar.muli arg1 c2_i32_1367
  let c0_i32_1368 : BitVec 32 := 0#32
  let v2281 : BitVec 32 := Scalar.addi v2280 c0_i32_1368
  let c256_i32_1369 : BitVec 32 := 256#32
  let v2282 : BitVec 32 := Scalar.muli v2281 c256_i32_1369
  let c148_i32 : BitVec 32 := 148#32
  let v2283 : BitVec 32 := Scalar.addi v2282 c148_i32
  let c8_i32_1373 : BitVec 32 := 8#32
  let v2288 : BitVec 32 := Scalar.muli v2283 c8_i32_1373
  let v2289 : BitVec 32 := v2288
  let c0_i32_1374 : BitVec 32 := 0#32
  ![v2284.toNat, v2289.toNat, 0]
def k0_off2665 (v2286 : BitVec 32) : Fin 2 → Nat :=
  let v2287 : BitVec 32 := v2286
  let c0_i32_1375 : BitVec 32 := 0#32
  ![v2287.toNat, 0]

def k0_chk662 (i : grid0.Coords) (v2286 : BitVec 32) : Prop :=
  (∀ (k0_h3 : k0_cond3 i = 1#1), 8 ∣ (k0_mult1323 v2286).toNat) ∧
  (∀ (k0_h3 : k0_cond3 i = 1#1), ∀ a, (k0_off2665 v2286) a + S8x128.size a ≤ S131072x128.size a)
theorem k0_mult1323_dvd : ∀ (i : grid0.Coords) (v2286 : BitVec 32) (k0_hw662 : k0_chk662 i v2286), ∀ (k0_h3 : k0_cond3 i = 1#1), 8 ∣ (k0_mult1323 v2286).toNat := fun i v2286 k0_hw662 k0_h3 => k0_hw662.1 k0_h3
theorem k0_off2665_inb : ∀ (i : grid0.Coords) (v2286 : BitVec 32) (k0_hw662 : k0_chk662 i v2286), ∀ (k0_h3 : k0_cond3 i = 1#1), ∀ a, (k0_off2665 v2286) a + S8x128.size a ≤ S131072x128.size a := fun i v2286 k0_hw662 k0_h3 => k0_hw662.2 k0_h3

def k0_off2666 (i : grid0.Coords) : Fin 3 → Nat :=
  let c0_1380 : Index := 0#32
  let c0_1381 : Index := 0#32
  let arg1 : BitVec 32 := BitVec.ofNat 32 (i 1).val
  let c2_i32_1376 : BitVec 32 := 2#32
  let v2295 : BitVec 32 := Scalar.muli arg1 c2_i32_1376
  let c0_i32_1377 : BitVec 32 := 0#32
  let v2296 : BitVec 32 := Scalar.addi v2295 c0_i32_1377
  let c256_i32_1378 : BitVec 32 := 256#32
  let v2297 : BitVec 32 := Scalar.muli v2296 c256_i32_1378
  let c149_i32 : BitVec 32 := 149#32
  let v2298 : BitVec 32 := Scalar.addi v2297 c149_i32
  let v2300 : Index := Scalar.indexCast v2298
  ![0, 0, v2300.toNat]
def k0_mult1325 (v2301 : BitVec 32) : BitVec 32 :=
  v2301

def k0_mult1326 (i : grid0.Coords) : BitVec 32 :=
  let arg1 : BitVec 32 := BitVec.ofNat 32 (i 1).val
  let c2_i32_1376 : BitVec 32 := 2#32
  let v2295 : BitVec 32 := Scalar.muli arg1 c2_i32_1376
  let c0_i32_1377 : BitVec 32 := 0#32
  let v2296 : BitVec 32 := Scalar.addi v2295 c0_i32_1377
  let c256_i32_1378 : BitVec 32 := 256#32
  let v2297 : BitVec 32 := Scalar.muli v2296 c256_i32_1378
  let c149_i32 : BitVec 32 := 149#32
  let v2298 : BitVec 32 := Scalar.addi v2297 c149_i32
  let c8_i32_1382 : BitVec 32 := 8#32
  let v2303 : BitVec 32 := Scalar.muli v2298 c8_i32_1382
  v2303
def k0_off2667 (i : grid0.Coords) : Fin 1 → Nat :=
  let c1_i32_1379 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2299 : BitVec 32 := Scalar.subi c1_i32_1379 v9
  ![v2299.toNat]
def k0_off2668 (i : grid0.Coords) : Fin 3 → Nat :=
  let c1_i32_1379 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2299 : BitVec 32 := Scalar.subi c1_i32_1379 v9
  let arg1 : BitVec 32 := BitVec.ofNat 32 (i 1).val
  let c2_i32_1376 : BitVec 32 := 2#32
  let v2295 : BitVec 32 := Scalar.muli arg1 c2_i32_1376
  let c0_i32_1377 : BitVec 32 := 0#32
  let v2296 : BitVec 32 := Scalar.addi v2295 c0_i32_1377
  let c256_i32_1378 : BitVec 32 := 256#32
  let v2297 : BitVec 32 := Scalar.muli v2296 c256_i32_1378
  let c149_i32 : BitVec 32 := 149#32
  let v2298 : BitVec 32 := Scalar.addi v2297 c149_i32
  let c8_i32_1382 : BitVec 32 := 8#32
  let v2303 : BitVec 32 := Scalar.muli v2298 c8_i32_1382
  let v2304 : BitVec 32 := v2303
  let c0_i32_1383 : BitVec 32 := 0#32
  ![v2299.toNat, v2304.toNat, 0]
def k0_off2669 (v2301 : BitVec 32) : Fin 2 → Nat :=
  let v2302 : BitVec 32 := v2301
  let c0_i32_1384 : BitVec 32 := 0#32
  ![v2302.toNat, 0]

def k0_chk663 (i : grid0.Coords) (v2301 : BitVec 32) : Prop :=
  (∀ (k0_h3 : k0_cond3 i = 1#1), 8 ∣ (k0_mult1325 v2301).toNat) ∧
  (∀ (k0_h3 : k0_cond3 i = 1#1), ∀ a, (k0_off2669 v2301) a + S8x128.size a ≤ S131072x128.size a)
theorem k0_mult1325_dvd : ∀ (i : grid0.Coords) (v2301 : BitVec 32) (k0_hw663 : k0_chk663 i v2301), ∀ (k0_h3 : k0_cond3 i = 1#1), 8 ∣ (k0_mult1325 v2301).toNat := fun i v2301 k0_hw663 k0_h3 => k0_hw663.1 k0_h3
theorem k0_off2669_inb : ∀ (i : grid0.Coords) (v2301 : BitVec 32) (k0_hw663 : k0_chk663 i v2301), ∀ (k0_h3 : k0_cond3 i = 1#1), ∀ a, (k0_off2669 v2301) a + S8x128.size a ≤ S131072x128.size a := fun i v2301 k0_hw663 k0_h3 => k0_hw663.2 k0_h3

def k0_off2670 (i : grid0.Coords) : Fin 3 → Nat :=
  let c0_1389 : Index := 0#32
  let c0_1390 : Index := 0#32
  let arg1 : BitVec 32 := BitVec.ofNat 32 (i 1).val
  let c2_i32_1385 : BitVec 32 := 2#32
  let v2310 : BitVec 32 := Scalar.muli arg1 c2_i32_1385
  let c0_i32_1386 : BitVec 32 := 0#32
  let v2311 : BitVec 32 := Scalar.addi v2310 c0_i32_1386
  let c256_i32_1387 : BitVec 32 := 256#32
  let v2312 : BitVec 32 := Scalar.muli v2311 c256_i32_1387
  let c150_i32 : BitVec 32 := 150#32
  let v2313 : BitVec 32 := Scalar.addi v2312 c150_i32
  let v2315 : Index := Scalar.indexCast v2313
  ![0, 0, v2315.toNat]
def k0_mult1327 (v2316 : BitVec 32) : BitVec 32 :=
  v2316

def k0_mult1328 (i : grid0.Coords) : BitVec 32 :=
  let arg1 : BitVec 32 := BitVec.ofNat 32 (i 1).val
  let c2_i32_1385 : BitVec 32 := 2#32
  let v2310 : BitVec 32 := Scalar.muli arg1 c2_i32_1385
  let c0_i32_1386 : BitVec 32 := 0#32
  let v2311 : BitVec 32 := Scalar.addi v2310 c0_i32_1386
  let c256_i32_1387 : BitVec 32 := 256#32
  let v2312 : BitVec 32 := Scalar.muli v2311 c256_i32_1387
  let c150_i32 : BitVec 32 := 150#32
  let v2313 : BitVec 32 := Scalar.addi v2312 c150_i32
  let c8_i32_1391 : BitVec 32 := 8#32
  let v2318 : BitVec 32 := Scalar.muli v2313 c8_i32_1391
  v2318
def k0_off2671 (i : grid0.Coords) : Fin 1 → Nat :=
  let c1_i32_1388 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2314 : BitVec 32 := Scalar.subi c1_i32_1388 v9
  ![v2314.toNat]
def k0_off2672 (i : grid0.Coords) : Fin 3 → Nat :=
  let c1_i32_1388 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2314 : BitVec 32 := Scalar.subi c1_i32_1388 v9
  let arg1 : BitVec 32 := BitVec.ofNat 32 (i 1).val
  let c2_i32_1385 : BitVec 32 := 2#32
  let v2310 : BitVec 32 := Scalar.muli arg1 c2_i32_1385
  let c0_i32_1386 : BitVec 32 := 0#32
  let v2311 : BitVec 32 := Scalar.addi v2310 c0_i32_1386
  let c256_i32_1387 : BitVec 32 := 256#32
  let v2312 : BitVec 32 := Scalar.muli v2311 c256_i32_1387
  let c150_i32 : BitVec 32 := 150#32
  let v2313 : BitVec 32 := Scalar.addi v2312 c150_i32
  let c8_i32_1391 : BitVec 32 := 8#32
  let v2318 : BitVec 32 := Scalar.muli v2313 c8_i32_1391
  let v2319 : BitVec 32 := v2318
  let c0_i32_1392 : BitVec 32 := 0#32
  ![v2314.toNat, v2319.toNat, 0]
def k0_off2673 (v2316 : BitVec 32) : Fin 2 → Nat :=
  let v2317 : BitVec 32 := v2316
  let c0_i32_1393 : BitVec 32 := 0#32
  ![v2317.toNat, 0]

def k0_chk664 (i : grid0.Coords) (v2316 : BitVec 32) : Prop :=
  (∀ (k0_h3 : k0_cond3 i = 1#1), 8 ∣ (k0_mult1327 v2316).toNat) ∧
  (∀ (k0_h3 : k0_cond3 i = 1#1), ∀ a, (k0_off2673 v2316) a + S8x128.size a ≤ S131072x128.size a)
theorem k0_mult1327_dvd : ∀ (i : grid0.Coords) (v2316 : BitVec 32) (k0_hw664 : k0_chk664 i v2316), ∀ (k0_h3 : k0_cond3 i = 1#1), 8 ∣ (k0_mult1327 v2316).toNat := fun i v2316 k0_hw664 k0_h3 => k0_hw664.1 k0_h3
theorem k0_off2673_inb : ∀ (i : grid0.Coords) (v2316 : BitVec 32) (k0_hw664 : k0_chk664 i v2316), ∀ (k0_h3 : k0_cond3 i = 1#1), ∀ a, (k0_off2673 v2316) a + S8x128.size a ≤ S131072x128.size a := fun i v2316 k0_hw664 k0_h3 => k0_hw664.2 k0_h3

def k0_off2674 (i : grid0.Coords) : Fin 3 → Nat :=
  let c0_1398 : Index := 0#32
  let c0_1399 : Index := 0#32
  let arg1 : BitVec 32 := BitVec.ofNat 32 (i 1).val
  let c2_i32_1394 : BitVec 32 := 2#32
  let v2325 : BitVec 32 := Scalar.muli arg1 c2_i32_1394
  let c0_i32_1395 : BitVec 32 := 0#32
  let v2326 : BitVec 32 := Scalar.addi v2325 c0_i32_1395
  let c256_i32_1396 : BitVec 32 := 256#32
  let v2327 : BitVec 32 := Scalar.muli v2326 c256_i32_1396
  let c151_i32 : BitVec 32 := 151#32
  let v2328 : BitVec 32 := Scalar.addi v2327 c151_i32
  let v2330 : Index := Scalar.indexCast v2328
  ![0, 0, v2330.toNat]
def k0_mult1329 (v2331 : BitVec 32) : BitVec 32 :=
  v2331

def k0_mult1330 (i : grid0.Coords) : BitVec 32 :=
  let arg1 : BitVec 32 := BitVec.ofNat 32 (i 1).val
  let c2_i32_1394 : BitVec 32 := 2#32
  let v2325 : BitVec 32 := Scalar.muli arg1 c2_i32_1394
  let c0_i32_1395 : BitVec 32 := 0#32
  let v2326 : BitVec 32 := Scalar.addi v2325 c0_i32_1395
  let c256_i32_1396 : BitVec 32 := 256#32
  let v2327 : BitVec 32 := Scalar.muli v2326 c256_i32_1396
  let c151_i32 : BitVec 32 := 151#32
  let v2328 : BitVec 32 := Scalar.addi v2327 c151_i32
  let c8_i32_1400 : BitVec 32 := 8#32
  let v2333 : BitVec 32 := Scalar.muli v2328 c8_i32_1400
  v2333
def k0_off2675 (i : grid0.Coords) : Fin 1 → Nat :=
  let c1_i32_1397 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2329 : BitVec 32 := Scalar.subi c1_i32_1397 v9
  ![v2329.toNat]
def k0_off2676 (i : grid0.Coords) : Fin 3 → Nat :=
  let c1_i32_1397 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2329 : BitVec 32 := Scalar.subi c1_i32_1397 v9
  let arg1 : BitVec 32 := BitVec.ofNat 32 (i 1).val
  let c2_i32_1394 : BitVec 32 := 2#32
  let v2325 : BitVec 32 := Scalar.muli arg1 c2_i32_1394
  let c0_i32_1395 : BitVec 32 := 0#32
  let v2326 : BitVec 32 := Scalar.addi v2325 c0_i32_1395
  let c256_i32_1396 : BitVec 32 := 256#32
  let v2327 : BitVec 32 := Scalar.muli v2326 c256_i32_1396
  let c151_i32 : BitVec 32 := 151#32
  let v2328 : BitVec 32 := Scalar.addi v2327 c151_i32
  let c8_i32_1400 : BitVec 32 := 8#32
  let v2333 : BitVec 32 := Scalar.muli v2328 c8_i32_1400
  let v2334 : BitVec 32 := v2333
  let c0_i32_1401 : BitVec 32 := 0#32
  ![v2329.toNat, v2334.toNat, 0]
def k0_off2677 (v2331 : BitVec 32) : Fin 2 → Nat :=
  let v2332 : BitVec 32 := v2331
  let c0_i32_1402 : BitVec 32 := 0#32
  ![v2332.toNat, 0]

def k0_chk665 (i : grid0.Coords) (v2331 : BitVec 32) : Prop :=
  (∀ (k0_h3 : k0_cond3 i = 1#1), 8 ∣ (k0_mult1329 v2331).toNat) ∧
  (∀ (k0_h3 : k0_cond3 i = 1#1), ∀ a, (k0_off2677 v2331) a + S8x128.size a ≤ S131072x128.size a)
theorem k0_mult1329_dvd : ∀ (i : grid0.Coords) (v2331 : BitVec 32) (k0_hw665 : k0_chk665 i v2331), ∀ (k0_h3 : k0_cond3 i = 1#1), 8 ∣ (k0_mult1329 v2331).toNat := fun i v2331 k0_hw665 k0_h3 => k0_hw665.1 k0_h3
theorem k0_off2677_inb : ∀ (i : grid0.Coords) (v2331 : BitVec 32) (k0_hw665 : k0_chk665 i v2331), ∀ (k0_h3 : k0_cond3 i = 1#1), ∀ a, (k0_off2677 v2331) a + S8x128.size a ≤ S131072x128.size a := fun i v2331 k0_hw665 k0_h3 => k0_hw665.2 k0_h3

def k0_off2678 (i : grid0.Coords) : Fin 3 → Nat :=
  let c0_1407 : Index := 0#32
  let c0_1408 : Index := 0#32
  let arg1 : BitVec 32 := BitVec.ofNat 32 (i 1).val
  let c2_i32_1403 : BitVec 32 := 2#32
  let v2340 : BitVec 32 := Scalar.muli arg1 c2_i32_1403
  let c0_i32_1404 : BitVec 32 := 0#32
  let v2341 : BitVec 32 := Scalar.addi v2340 c0_i32_1404
  let c256_i32_1405 : BitVec 32 := 256#32
  let v2342 : BitVec 32 := Scalar.muli v2341 c256_i32_1405
  let c152_i32 : BitVec 32 := 152#32
  let v2343 : BitVec 32 := Scalar.addi v2342 c152_i32
  let v2345 : Index := Scalar.indexCast v2343
  ![0, 0, v2345.toNat]
def k0_mult1331 (v2346 : BitVec 32) : BitVec 32 :=
  v2346

def k0_mult1332 (i : grid0.Coords) : BitVec 32 :=
  let arg1 : BitVec 32 := BitVec.ofNat 32 (i 1).val
  let c2_i32_1403 : BitVec 32 := 2#32
  let v2340 : BitVec 32 := Scalar.muli arg1 c2_i32_1403
  let c0_i32_1404 : BitVec 32 := 0#32
  let v2341 : BitVec 32 := Scalar.addi v2340 c0_i32_1404
  let c256_i32_1405 : BitVec 32 := 256#32
  let v2342 : BitVec 32 := Scalar.muli v2341 c256_i32_1405
  let c152_i32 : BitVec 32 := 152#32
  let v2343 : BitVec 32 := Scalar.addi v2342 c152_i32
  let c8_i32_1409 : BitVec 32 := 8#32
  let v2348 : BitVec 32 := Scalar.muli v2343 c8_i32_1409
  v2348
def k0_off2679 (i : grid0.Coords) : Fin 1 → Nat :=
  let c1_i32_1406 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2344 : BitVec 32 := Scalar.subi c1_i32_1406 v9
  ![v2344.toNat]
def k0_off2680 (i : grid0.Coords) : Fin 3 → Nat :=
  let c1_i32_1406 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2344 : BitVec 32 := Scalar.subi c1_i32_1406 v9
  let arg1 : BitVec 32 := BitVec.ofNat 32 (i 1).val
  let c2_i32_1403 : BitVec 32 := 2#32
  let v2340 : BitVec 32 := Scalar.muli arg1 c2_i32_1403
  let c0_i32_1404 : BitVec 32 := 0#32
  let v2341 : BitVec 32 := Scalar.addi v2340 c0_i32_1404
  let c256_i32_1405 : BitVec 32 := 256#32
  let v2342 : BitVec 32 := Scalar.muli v2341 c256_i32_1405
  let c152_i32 : BitVec 32 := 152#32
  let v2343 : BitVec 32 := Scalar.addi v2342 c152_i32
  let c8_i32_1409 : BitVec 32 := 8#32
  let v2348 : BitVec 32 := Scalar.muli v2343 c8_i32_1409
  let v2349 : BitVec 32 := v2348
  let c0_i32_1410 : BitVec 32 := 0#32
  ![v2344.toNat, v2349.toNat, 0]

variable {F : FTy → Type} [FloatOps F]

def k0_off2681 (v2346 : BitVec 32) : Fin 2 → Nat :=
  let v2347 : BitVec 32 := v2346
  let c0_i32_1411 : BitVec 32 := 0#32
  ![v2347.toNat, 0]

def k0_chk666 (i : grid0.Coords) (v2346 : BitVec 32) : Prop :=
  (∀ (k0_h3 : k0_cond3 i = 1#1), 8 ∣ (k0_mult1331 v2346).toNat) ∧
  (∀ (k0_h3 : k0_cond3 i = 1#1), ∀ a, (k0_off2681 v2346) a + S8x128.size a ≤ S131072x128.size a)
theorem k0_mult1331_dvd : ∀ (i : grid0.Coords) (v2346 : BitVec 32) (k0_hw666 : k0_chk666 i v2346), ∀ (k0_h3 : k0_cond3 i = 1#1), 8 ∣ (k0_mult1331 v2346).toNat := fun i v2346 k0_hw666 k0_h3 => k0_hw666.1 k0_h3
theorem k0_off2681_inb : ∀ (i : grid0.Coords) (v2346 : BitVec 32) (k0_hw666 : k0_chk666 i v2346), ∀ (k0_h3 : k0_cond3 i = 1#1), ∀ a, (k0_off2681 v2346) a + S8x128.size a ≤ S131072x128.size a := fun i v2346 k0_hw666 k0_h3 => k0_hw666.2 k0_h3

def k0_off2682 (i : grid0.Coords) : Fin 3 → Nat :=
  let c0_1416 : Index := 0#32
  let c0_1417 : Index := 0#32
  let arg1 : BitVec 32 := BitVec.ofNat 32 (i 1).val
  let c2_i32_1412 : BitVec 32 := 2#32
  let v2355 : BitVec 32 := Scalar.muli arg1 c2_i32_1412
  let c0_i32_1413 : BitVec 32 := 0#32
  let v2356 : BitVec 32 := Scalar.addi v2355 c0_i32_1413
  let c256_i32_1414 : BitVec 32 := 256#32
  let v2357 : BitVec 32 := Scalar.muli v2356 c256_i32_1414
  let c153_i32 : BitVec 32 := 153#32
  let v2358 : BitVec 32 := Scalar.addi v2357 c153_i32
  let v2360 : Index := Scalar.indexCast v2358
  ![0, 0, v2360.toNat]
def k0_mult1333 (v2361 : BitVec 32) : BitVec 32 :=
  v2361

def k0_mult1334 (i : grid0.Coords) : BitVec 32 :=
  let arg1 : BitVec 32 := BitVec.ofNat 32 (i 1).val
  let c2_i32_1412 : BitVec 32 := 2#32
  let v2355 : BitVec 32 := Scalar.muli arg1 c2_i32_1412
  let c0_i32_1413 : BitVec 32 := 0#32
  let v2356 : BitVec 32 := Scalar.addi v2355 c0_i32_1413
  let c256_i32_1414 : BitVec 32 := 256#32
  let v2357 : BitVec 32 := Scalar.muli v2356 c256_i32_1414
  let c153_i32 : BitVec 32 := 153#32
  let v2358 : BitVec 32 := Scalar.addi v2357 c153_i32
  let c8_i32_1418 : BitVec 32 := 8#32
  let v2363 : BitVec 32 := Scalar.muli v2358 c8_i32_1418
  v2363
def k0_off2683 (i : grid0.Coords) : Fin 1 → Nat :=
  let c1_i32_1415 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2359 : BitVec 32 := Scalar.subi c1_i32_1415 v9
  ![v2359.toNat]
def k0_off2684 (i : grid0.Coords) : Fin 3 → Nat :=
  let c1_i32_1415 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2359 : BitVec 32 := Scalar.subi c1_i32_1415 v9
  let arg1 : BitVec 32 := BitVec.ofNat 32 (i 1).val
  let c2_i32_1412 : BitVec 32 := 2#32
  let v2355 : BitVec 32 := Scalar.muli arg1 c2_i32_1412
  let c0_i32_1413 : BitVec 32 := 0#32
  let v2356 : BitVec 32 := Scalar.addi v2355 c0_i32_1413
  let c256_i32_1414 : BitVec 32 := 256#32
  let v2357 : BitVec 32 := Scalar.muli v2356 c256_i32_1414
  let c153_i32 : BitVec 32 := 153#32
  let v2358 : BitVec 32 := Scalar.addi v2357 c153_i32
  let c8_i32_1418 : BitVec 32 := 8#32
  let v2363 : BitVec 32 := Scalar.muli v2358 c8_i32_1418
  let v2364 : BitVec 32 := v2363
  let c0_i32_1419 : BitVec 32 := 0#32
  ![v2359.toNat, v2364.toNat, 0]
def k0_off2685 (v2361 : BitVec 32) : Fin 2 → Nat :=
  let v2362 : BitVec 32 := v2361
  let c0_i32_1420 : BitVec 32 := 0#32
  ![v2362.toNat, 0]

def k0_chk667 (i : grid0.Coords) (v2361 : BitVec 32) : Prop :=
  (∀ (k0_h3 : k0_cond3 i = 1#1), 8 ∣ (k0_mult1333 v2361).toNat) ∧
  (∀ (k0_h3 : k0_cond3 i = 1#1), ∀ a, (k0_off2685 v2361) a + S8x128.size a ≤ S131072x128.size a)
theorem k0_mult1333_dvd : ∀ (i : grid0.Coords) (v2361 : BitVec 32) (k0_hw667 : k0_chk667 i v2361), ∀ (k0_h3 : k0_cond3 i = 1#1), 8 ∣ (k0_mult1333 v2361).toNat := fun i v2361 k0_hw667 k0_h3 => k0_hw667.1 k0_h3
theorem k0_off2685_inb : ∀ (i : grid0.Coords) (v2361 : BitVec 32) (k0_hw667 : k0_chk667 i v2361), ∀ (k0_h3 : k0_cond3 i = 1#1), ∀ a, (k0_off2685 v2361) a + S8x128.size a ≤ S131072x128.size a := fun i v2361 k0_hw667 k0_h3 => k0_hw667.2 k0_h3

def k0_off2686 (i : grid0.Coords) : Fin 3 → Nat :=
  let c0_1425 : Index := 0#32
  let c0_1426 : Index := 0#32
  let arg1 : BitVec 32 := BitVec.ofNat 32 (i 1).val
  let c2_i32_1421 : BitVec 32 := 2#32
  let v2370 : BitVec 32 := Scalar.muli arg1 c2_i32_1421
  let c0_i32_1422 : BitVec 32 := 0#32
  let v2371 : BitVec 32 := Scalar.addi v2370 c0_i32_1422
  let c256_i32_1423 : BitVec 32 := 256#32
  let v2372 : BitVec 32 := Scalar.muli v2371 c256_i32_1423
  let c154_i32 : BitVec 32 := 154#32
  let v2373 : BitVec 32 := Scalar.addi v2372 c154_i32
  let v2375 : Index := Scalar.indexCast v2373
  ![0, 0, v2375.toNat]
def k0_mult1335 (v2376 : BitVec 32) : BitVec 32 :=
  v2376

def k0_mult1336 (i : grid0.Coords) : BitVec 32 :=
  let arg1 : BitVec 32 := BitVec.ofNat 32 (i 1).val
  let c2_i32_1421 : BitVec 32 := 2#32
  let v2370 : BitVec 32 := Scalar.muli arg1 c2_i32_1421
  let c0_i32_1422 : BitVec 32 := 0#32
  let v2371 : BitVec 32 := Scalar.addi v2370 c0_i32_1422
  let c256_i32_1423 : BitVec 32 := 256#32
  let v2372 : BitVec 32 := Scalar.muli v2371 c256_i32_1423
  let c154_i32 : BitVec 32 := 154#32
  let v2373 : BitVec 32 := Scalar.addi v2372 c154_i32
  let c8_i32_1427 : BitVec 32 := 8#32
  let v2378 : BitVec 32 := Scalar.muli v2373 c8_i32_1427
  v2378
def k0_off2687 (i : grid0.Coords) : Fin 1 → Nat :=
  let c1_i32_1424 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2374 : BitVec 32 := Scalar.subi c1_i32_1424 v9
  ![v2374.toNat]
def k0_off2688 (i : grid0.Coords) : Fin 3 → Nat :=
  let c1_i32_1424 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2374 : BitVec 32 := Scalar.subi c1_i32_1424 v9
  let arg1 : BitVec 32 := BitVec.ofNat 32 (i 1).val
  let c2_i32_1421 : BitVec 32 := 2#32
  let v2370 : BitVec 32 := Scalar.muli arg1 c2_i32_1421
  let c0_i32_1422 : BitVec 32 := 0#32
  let v2371 : BitVec 32 := Scalar.addi v2370 c0_i32_1422
  let c256_i32_1423 : BitVec 32 := 256#32
  let v2372 : BitVec 32 := Scalar.muli v2371 c256_i32_1423
  let c154_i32 : BitVec 32 := 154#32
  let v2373 : BitVec 32 := Scalar.addi v2372 c154_i32
  let c8_i32_1427 : BitVec 32 := 8#32
  let v2378 : BitVec 32 := Scalar.muli v2373 c8_i32_1427
  let v2379 : BitVec 32 := v2378
  let c0_i32_1428 : BitVec 32 := 0#32
  ![v2374.toNat, v2379.toNat, 0]
def k0_off2689 (v2376 : BitVec 32) : Fin 2 → Nat :=
  let v2377 : BitVec 32 := v2376
  let c0_i32_1429 : BitVec 32 := 0#32
  ![v2377.toNat, 0]

def k0_chk668 (i : grid0.Coords) (v2376 : BitVec 32) : Prop :=
  (∀ (k0_h3 : k0_cond3 i = 1#1), 8 ∣ (k0_mult1335 v2376).toNat) ∧
  (∀ (k0_h3 : k0_cond3 i = 1#1), ∀ a, (k0_off2689 v2376) a + S8x128.size a ≤ S131072x128.size a)
theorem k0_mult1335_dvd : ∀ (i : grid0.Coords) (v2376 : BitVec 32) (k0_hw668 : k0_chk668 i v2376), ∀ (k0_h3 : k0_cond3 i = 1#1), 8 ∣ (k0_mult1335 v2376).toNat := fun i v2376 k0_hw668 k0_h3 => k0_hw668.1 k0_h3
theorem k0_off2689_inb : ∀ (i : grid0.Coords) (v2376 : BitVec 32) (k0_hw668 : k0_chk668 i v2376), ∀ (k0_h3 : k0_cond3 i = 1#1), ∀ a, (k0_off2689 v2376) a + S8x128.size a ≤ S131072x128.size a := fun i v2376 k0_hw668 k0_h3 => k0_hw668.2 k0_h3

def k0_off2690 (i : grid0.Coords) : Fin 3 → Nat :=
  let c0_1434 : Index := 0#32
  let c0_1435 : Index := 0#32
  let arg1 : BitVec 32 := BitVec.ofNat 32 (i 1).val
  let c2_i32_1430 : BitVec 32 := 2#32
  let v2385 : BitVec 32 := Scalar.muli arg1 c2_i32_1430
  let c0_i32_1431 : BitVec 32 := 0#32
  let v2386 : BitVec 32 := Scalar.addi v2385 c0_i32_1431
  let c256_i32_1432 : BitVec 32 := 256#32
  let v2387 : BitVec 32 := Scalar.muli v2386 c256_i32_1432
  let c155_i32 : BitVec 32 := 155#32
  let v2388 : BitVec 32 := Scalar.addi v2387 c155_i32
  let v2390 : Index := Scalar.indexCast v2388
  ![0, 0, v2390.toNat]
def k0_mult1337 (v2391 : BitVec 32) : BitVec 32 :=
  v2391

def k0_mult1338 (i : grid0.Coords) : BitVec 32 :=
  let arg1 : BitVec 32 := BitVec.ofNat 32 (i 1).val
  let c2_i32_1430 : BitVec 32 := 2#32
  let v2385 : BitVec 32 := Scalar.muli arg1 c2_i32_1430
  let c0_i32_1431 : BitVec 32 := 0#32
  let v2386 : BitVec 32 := Scalar.addi v2385 c0_i32_1431
  let c256_i32_1432 : BitVec 32 := 256#32
  let v2387 : BitVec 32 := Scalar.muli v2386 c256_i32_1432
  let c155_i32 : BitVec 32 := 155#32
  let v2388 : BitVec 32 := Scalar.addi v2387 c155_i32
  let c8_i32_1436 : BitVec 32 := 8#32
  let v2393 : BitVec 32 := Scalar.muli v2388 c8_i32_1436
  v2393
def k0_off2691 (i : grid0.Coords) : Fin 1 → Nat :=
  let c1_i32_1433 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2389 : BitVec 32 := Scalar.subi c1_i32_1433 v9
  ![v2389.toNat]
def k0_off2692 (i : grid0.Coords) : Fin 3 → Nat :=
  let c1_i32_1433 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2389 : BitVec 32 := Scalar.subi c1_i32_1433 v9
  let arg1 : BitVec 32 := BitVec.ofNat 32 (i 1).val
  let c2_i32_1430 : BitVec 32 := 2#32
  let v2385 : BitVec 32 := Scalar.muli arg1 c2_i32_1430
  let c0_i32_1431 : BitVec 32 := 0#32
  let v2386 : BitVec 32 := Scalar.addi v2385 c0_i32_1431
  let c256_i32_1432 : BitVec 32 := 256#32
  let v2387 : BitVec 32 := Scalar.muli v2386 c256_i32_1432
  let c155_i32 : BitVec 32 := 155#32
  let v2388 : BitVec 32 := Scalar.addi v2387 c155_i32
  let c8_i32_1436 : BitVec 32 := 8#32
  let v2393 : BitVec 32 := Scalar.muli v2388 c8_i32_1436
  let v2394 : BitVec 32 := v2393
  let c0_i32_1437 : BitVec 32 := 0#32
  ![v2389.toNat, v2394.toNat, 0]
def k0_off2693 (v2391 : BitVec 32) : Fin 2 → Nat :=
  let v2392 : BitVec 32 := v2391
  let c0_i32_1438 : BitVec 32 := 0#32
  ![v2392.toNat, 0]

def k0_chk669 (i : grid0.Coords) (v2391 : BitVec 32) : Prop :=
  (∀ (k0_h3 : k0_cond3 i = 1#1), 8 ∣ (k0_mult1337 v2391).toNat) ∧
  (∀ (k0_h3 : k0_cond3 i = 1#1), ∀ a, (k0_off2693 v2391) a + S8x128.size a ≤ S131072x128.size a)
theorem k0_mult1337_dvd : ∀ (i : grid0.Coords) (v2391 : BitVec 32) (k0_hw669 : k0_chk669 i v2391), ∀ (k0_h3 : k0_cond3 i = 1#1), 8 ∣ (k0_mult1337 v2391).toNat := fun i v2391 k0_hw669 k0_h3 => k0_hw669.1 k0_h3
theorem k0_off2693_inb : ∀ (i : grid0.Coords) (v2391 : BitVec 32) (k0_hw669 : k0_chk669 i v2391), ∀ (k0_h3 : k0_cond3 i = 1#1), ∀ a, (k0_off2693 v2391) a + S8x128.size a ≤ S131072x128.size a := fun i v2391 k0_hw669 k0_h3 => k0_hw669.2 k0_h3

def k0_off2694 (i : grid0.Coords) : Fin 3 → Nat :=
  let c0_1443 : Index := 0#32
  let c0_1444 : Index := 0#32
  let arg1 : BitVec 32 := BitVec.ofNat 32 (i 1).val
  let c2_i32_1439 : BitVec 32 := 2#32
  let v2400 : BitVec 32 := Scalar.muli arg1 c2_i32_1439
  let c0_i32_1440 : BitVec 32 := 0#32
  let v2401 : BitVec 32 := Scalar.addi v2400 c0_i32_1440
  let c256_i32_1441 : BitVec 32 := 256#32
  let v2402 : BitVec 32 := Scalar.muli v2401 c256_i32_1441
  let c156_i32 : BitVec 32 := 156#32
  let v2403 : BitVec 32 := Scalar.addi v2402 c156_i32
  let v2405 : Index := Scalar.indexCast v2403
  ![0, 0, v2405.toNat]
def k0_mult1339 (v2406 : BitVec 32) : BitVec 32 :=
  v2406

def k0_mult1340 (i : grid0.Coords) : BitVec 32 :=
  let arg1 : BitVec 32 := BitVec.ofNat 32 (i 1).val
  let c2_i32_1439 : BitVec 32 := 2#32
  let v2400 : BitVec 32 := Scalar.muli arg1 c2_i32_1439
  let c0_i32_1440 : BitVec 32 := 0#32
  let v2401 : BitVec 32 := Scalar.addi v2400 c0_i32_1440
  let c256_i32_1441 : BitVec 32 := 256#32
  let v2402 : BitVec 32 := Scalar.muli v2401 c256_i32_1441
  let c156_i32 : BitVec 32 := 156#32
  let v2403 : BitVec 32 := Scalar.addi v2402 c156_i32
  let c8_i32_1445 : BitVec 32 := 8#32
  let v2408 : BitVec 32 := Scalar.muli v2403 c8_i32_1445
  v2408
def k0_off2695 (i : grid0.Coords) : Fin 1 → Nat :=
  let c1_i32_1442 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2404 : BitVec 32 := Scalar.subi c1_i32_1442 v9
  ![v2404.toNat]
def k0_off2696 (i : grid0.Coords) : Fin 3 → Nat :=
  let c1_i32_1442 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2404 : BitVec 32 := Scalar.subi c1_i32_1442 v9
  let arg1 : BitVec 32 := BitVec.ofNat 32 (i 1).val
  let c2_i32_1439 : BitVec 32 := 2#32
  let v2400 : BitVec 32 := Scalar.muli arg1 c2_i32_1439
  let c0_i32_1440 : BitVec 32 := 0#32
  let v2401 : BitVec 32 := Scalar.addi v2400 c0_i32_1440
  let c256_i32_1441 : BitVec 32 := 256#32
  let v2402 : BitVec 32 := Scalar.muli v2401 c256_i32_1441
  let c156_i32 : BitVec 32 := 156#32
  let v2403 : BitVec 32 := Scalar.addi v2402 c156_i32
  let c8_i32_1445 : BitVec 32 := 8#32
  let v2408 : BitVec 32 := Scalar.muli v2403 c8_i32_1445
  let v2409 : BitVec 32 := v2408
  let c0_i32_1446 : BitVec 32 := 0#32
  ![v2404.toNat, v2409.toNat, 0]
def k0_off2697 (v2406 : BitVec 32) : Fin 2 → Nat :=
  let v2407 : BitVec 32 := v2406
  let c0_i32_1447 : BitVec 32 := 0#32
  ![v2407.toNat, 0]

def k0_chk670 (i : grid0.Coords) (v2406 : BitVec 32) : Prop :=
  (∀ (k0_h3 : k0_cond3 i = 1#1), 8 ∣ (k0_mult1339 v2406).toNat) ∧
  (∀ (k0_h3 : k0_cond3 i = 1#1), ∀ a, (k0_off2697 v2406) a + S8x128.size a ≤ S131072x128.size a)
theorem k0_mult1339_dvd : ∀ (i : grid0.Coords) (v2406 : BitVec 32) (k0_hw670 : k0_chk670 i v2406), ∀ (k0_h3 : k0_cond3 i = 1#1), 8 ∣ (k0_mult1339 v2406).toNat := fun i v2406 k0_hw670 k0_h3 => k0_hw670.1 k0_h3
theorem k0_off2697_inb : ∀ (i : grid0.Coords) (v2406 : BitVec 32) (k0_hw670 : k0_chk670 i v2406), ∀ (k0_h3 : k0_cond3 i = 1#1), ∀ a, (k0_off2697 v2406) a + S8x128.size a ≤ S131072x128.size a := fun i v2406 k0_hw670 k0_h3 => k0_hw670.2 k0_h3

def k0_off2698 (i : grid0.Coords) : Fin 3 → Nat :=
  let c0_1452 : Index := 0#32
  let c0_1453 : Index := 0#32
  let arg1 : BitVec 32 := BitVec.ofNat 32 (i 1).val
  let c2_i32_1448 : BitVec 32 := 2#32
  let v2415 : BitVec 32 := Scalar.muli arg1 c2_i32_1448
  let c0_i32_1449 : BitVec 32 := 0#32
  let v2416 : BitVec 32 := Scalar.addi v2415 c0_i32_1449
  let c256_i32_1450 : BitVec 32 := 256#32
  let v2417 : BitVec 32 := Scalar.muli v2416 c256_i32_1450
  let c157_i32 : BitVec 32 := 157#32
  let v2418 : BitVec 32 := Scalar.addi v2417 c157_i32
  let v2420 : Index := Scalar.indexCast v2418
  ![0, 0, v2420.toNat]
def k0_mult1341 (v2421 : BitVec 32) : BitVec 32 :=
  v2421

def k0_mult1342 (i : grid0.Coords) : BitVec 32 :=
  let arg1 : BitVec 32 := BitVec.ofNat 32 (i 1).val
  let c2_i32_1448 : BitVec 32 := 2#32
  let v2415 : BitVec 32 := Scalar.muli arg1 c2_i32_1448
  let c0_i32_1449 : BitVec 32 := 0#32
  let v2416 : BitVec 32 := Scalar.addi v2415 c0_i32_1449
  let c256_i32_1450 : BitVec 32 := 256#32
  let v2417 : BitVec 32 := Scalar.muli v2416 c256_i32_1450
  let c157_i32 : BitVec 32 := 157#32
  let v2418 : BitVec 32 := Scalar.addi v2417 c157_i32
  let c8_i32_1454 : BitVec 32 := 8#32
  let v2423 : BitVec 32 := Scalar.muli v2418 c8_i32_1454
  v2423
def k0_off2699 (i : grid0.Coords) : Fin 1 → Nat :=
  let c1_i32_1451 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2419 : BitVec 32 := Scalar.subi c1_i32_1451 v9
  ![v2419.toNat]
def k0_off2700 (i : grid0.Coords) : Fin 3 → Nat :=
  let c1_i32_1451 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2419 : BitVec 32 := Scalar.subi c1_i32_1451 v9
  let arg1 : BitVec 32 := BitVec.ofNat 32 (i 1).val
  let c2_i32_1448 : BitVec 32 := 2#32
  let v2415 : BitVec 32 := Scalar.muli arg1 c2_i32_1448
  let c0_i32_1449 : BitVec 32 := 0#32
  let v2416 : BitVec 32 := Scalar.addi v2415 c0_i32_1449
  let c256_i32_1450 : BitVec 32 := 256#32
  let v2417 : BitVec 32 := Scalar.muli v2416 c256_i32_1450
  let c157_i32 : BitVec 32 := 157#32
  let v2418 : BitVec 32 := Scalar.addi v2417 c157_i32
  let c8_i32_1454 : BitVec 32 := 8#32
  let v2423 : BitVec 32 := Scalar.muli v2418 c8_i32_1454
  let v2424 : BitVec 32 := v2423
  let c0_i32_1455 : BitVec 32 := 0#32
  ![v2419.toNat, v2424.toNat, 0]
def k0_off2701 (v2421 : BitVec 32) : Fin 2 → Nat :=
  let v2422 : BitVec 32 := v2421
  let c0_i32_1456 : BitVec 32 := 0#32
  ![v2422.toNat, 0]

def k0_chk671 (i : grid0.Coords) (v2421 : BitVec 32) : Prop :=
  (∀ (k0_h3 : k0_cond3 i = 1#1), 8 ∣ (k0_mult1341 v2421).toNat) ∧
  (∀ (k0_h3 : k0_cond3 i = 1#1), ∀ a, (k0_off2701 v2421) a + S8x128.size a ≤ S131072x128.size a)
theorem k0_mult1341_dvd : ∀ (i : grid0.Coords) (v2421 : BitVec 32) (k0_hw671 : k0_chk671 i v2421), ∀ (k0_h3 : k0_cond3 i = 1#1), 8 ∣ (k0_mult1341 v2421).toNat := fun i v2421 k0_hw671 k0_h3 => k0_hw671.1 k0_h3
theorem k0_off2701_inb : ∀ (i : grid0.Coords) (v2421 : BitVec 32) (k0_hw671 : k0_chk671 i v2421), ∀ (k0_h3 : k0_cond3 i = 1#1), ∀ a, (k0_off2701 v2421) a + S8x128.size a ≤ S131072x128.size a := fun i v2421 k0_hw671 k0_h3 => k0_hw671.2 k0_h3

def k0_off2702 (i : grid0.Coords) : Fin 3 → Nat :=
  let c0_1461 : Index := 0#32
  let c0_1462 : Index := 0#32
  let arg1 : BitVec 32 := BitVec.ofNat 32 (i 1).val
  let c2_i32_1457 : BitVec 32 := 2#32
  let v2430 : BitVec 32 := Scalar.muli arg1 c2_i32_1457
  let c0_i32_1458 : BitVec 32 := 0#32
  let v2431 : BitVec 32 := Scalar.addi v2430 c0_i32_1458
  let c256_i32_1459 : BitVec 32 := 256#32
  let v2432 : BitVec 32 := Scalar.muli v2431 c256_i32_1459
  let c158_i32 : BitVec 32 := 158#32
  let v2433 : BitVec 32 := Scalar.addi v2432 c158_i32
  let v2435 : Index := Scalar.indexCast v2433
  ![0, 0, v2435.toNat]
def k0_mult1343 (v2436 : BitVec 32) : BitVec 32 :=
  v2436

def k0_mult1344 (i : grid0.Coords) : BitVec 32 :=
  let arg1 : BitVec 32 := BitVec.ofNat 32 (i 1).val
  let c2_i32_1457 : BitVec 32 := 2#32
  let v2430 : BitVec 32 := Scalar.muli arg1 c2_i32_1457
  let c0_i32_1458 : BitVec 32 := 0#32
  let v2431 : BitVec 32 := Scalar.addi v2430 c0_i32_1458
  let c256_i32_1459 : BitVec 32 := 256#32
  let v2432 : BitVec 32 := Scalar.muli v2431 c256_i32_1459
  let c158_i32 : BitVec 32 := 158#32
  let v2433 : BitVec 32 := Scalar.addi v2432 c158_i32
  let c8_i32_1463 : BitVec 32 := 8#32
  let v2438 : BitVec 32 := Scalar.muli v2433 c8_i32_1463
  v2438
def k0_off2703 (i : grid0.Coords) : Fin 1 → Nat :=
  let c1_i32_1460 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2434 : BitVec 32 := Scalar.subi c1_i32_1460 v9
  ![v2434.toNat]
def k0_off2704 (i : grid0.Coords) : Fin 3 → Nat :=
  let c1_i32_1460 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2434 : BitVec 32 := Scalar.subi c1_i32_1460 v9
  let arg1 : BitVec 32 := BitVec.ofNat 32 (i 1).val
  let c2_i32_1457 : BitVec 32 := 2#32
  let v2430 : BitVec 32 := Scalar.muli arg1 c2_i32_1457
  let c0_i32_1458 : BitVec 32 := 0#32
  let v2431 : BitVec 32 := Scalar.addi v2430 c0_i32_1458
  let c256_i32_1459 : BitVec 32 := 256#32
  let v2432 : BitVec 32 := Scalar.muli v2431 c256_i32_1459
  let c158_i32 : BitVec 32 := 158#32
  let v2433 : BitVec 32 := Scalar.addi v2432 c158_i32
  let c8_i32_1463 : BitVec 32 := 8#32
  let v2438 : BitVec 32 := Scalar.muli v2433 c8_i32_1463
  let v2439 : BitVec 32 := v2438
  let c0_i32_1464 : BitVec 32 := 0#32
  ![v2434.toNat, v2439.toNat, 0]
def k0_off2705 (v2436 : BitVec 32) : Fin 2 → Nat :=
  let v2437 : BitVec 32 := v2436
  let c0_i32_1465 : BitVec 32 := 0#32
  ![v2437.toNat, 0]

def k0_chk672 (i : grid0.Coords) (v2436 : BitVec 32) : Prop :=
  (∀ (k0_h3 : k0_cond3 i = 1#1), 8 ∣ (k0_mult1343 v2436).toNat) ∧
  (∀ (k0_h3 : k0_cond3 i = 1#1), ∀ a, (k0_off2705 v2436) a + S8x128.size a ≤ S131072x128.size a)
theorem k0_mult1343_dvd : ∀ (i : grid0.Coords) (v2436 : BitVec 32) (k0_hw672 : k0_chk672 i v2436), ∀ (k0_h3 : k0_cond3 i = 1#1), 8 ∣ (k0_mult1343 v2436).toNat := fun i v2436 k0_hw672 k0_h3 => k0_hw672.1 k0_h3
theorem k0_off2705_inb : ∀ (i : grid0.Coords) (v2436 : BitVec 32) (k0_hw672 : k0_chk672 i v2436), ∀ (k0_h3 : k0_cond3 i = 1#1), ∀ a, (k0_off2705 v2436) a + S8x128.size a ≤ S131072x128.size a := fun i v2436 k0_hw672 k0_h3 => k0_hw672.2 k0_h3

def k0_off2706 (i : grid0.Coords) : Fin 3 → Nat :=
  let c0_1470 : Index := 0#32
  let c0_1471 : Index := 0#32
  let arg1 : BitVec 32 := BitVec.ofNat 32 (i 1).val
  let c2_i32_1466 : BitVec 32 := 2#32
  let v2445 : BitVec 32 := Scalar.muli arg1 c2_i32_1466
  let c0_i32_1467 : BitVec 32 := 0#32
  let v2446 : BitVec 32 := Scalar.addi v2445 c0_i32_1467
  let c256_i32_1468 : BitVec 32 := 256#32
  let v2447 : BitVec 32 := Scalar.muli v2446 c256_i32_1468
  let c159_i32 : BitVec 32 := 159#32
  let v2448 : BitVec 32 := Scalar.addi v2447 c159_i32
  let v2450 : Index := Scalar.indexCast v2448
  ![0, 0, v2450.toNat]
def k0_mult1345 (v2451 : BitVec 32) : BitVec 32 :=
  v2451

def k0_mult1346 (i : grid0.Coords) : BitVec 32 :=
  let arg1 : BitVec 32 := BitVec.ofNat 32 (i 1).val
  let c2_i32_1466 : BitVec 32 := 2#32
  let v2445 : BitVec 32 := Scalar.muli arg1 c2_i32_1466
  let c0_i32_1467 : BitVec 32 := 0#32
  let v2446 : BitVec 32 := Scalar.addi v2445 c0_i32_1467
  let c256_i32_1468 : BitVec 32 := 256#32
  let v2447 : BitVec 32 := Scalar.muli v2446 c256_i32_1468
  let c159_i32 : BitVec 32 := 159#32
  let v2448 : BitVec 32 := Scalar.addi v2447 c159_i32
  let c8_i32_1472 : BitVec 32 := 8#32
  let v2453 : BitVec 32 := Scalar.muli v2448 c8_i32_1472
  v2453
def k0_off2707 (i : grid0.Coords) : Fin 1 → Nat :=
  let c1_i32_1469 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2449 : BitVec 32 := Scalar.subi c1_i32_1469 v9
  ![v2449.toNat]
def k0_off2708 (i : grid0.Coords) : Fin 3 → Nat :=
  let c1_i32_1469 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2449 : BitVec 32 := Scalar.subi c1_i32_1469 v9
  let arg1 : BitVec 32 := BitVec.ofNat 32 (i 1).val
  let c2_i32_1466 : BitVec 32 := 2#32
  let v2445 : BitVec 32 := Scalar.muli arg1 c2_i32_1466
  let c0_i32_1467 : BitVec 32 := 0#32
  let v2446 : BitVec 32 := Scalar.addi v2445 c0_i32_1467
  let c256_i32_1468 : BitVec 32 := 256#32
  let v2447 : BitVec 32 := Scalar.muli v2446 c256_i32_1468
  let c159_i32 : BitVec 32 := 159#32
  let v2448 : BitVec 32 := Scalar.addi v2447 c159_i32
  let c8_i32_1472 : BitVec 32 := 8#32
  let v2453 : BitVec 32 := Scalar.muli v2448 c8_i32_1472
  let v2454 : BitVec 32 := v2453
  let c0_i32_1473 : BitVec 32 := 0#32
  ![v2449.toNat, v2454.toNat, 0]
def k0_off2709 (v2451 : BitVec 32) : Fin 2 → Nat :=
  let v2452 : BitVec 32 := v2451
  let c0_i32_1474 : BitVec 32 := 0#32
  ![v2452.toNat, 0]

def k0_chk673 (i : grid0.Coords) (v2451 : BitVec 32) : Prop :=
  (∀ (k0_h3 : k0_cond3 i = 1#1), 8 ∣ (k0_mult1345 v2451).toNat) ∧
  (∀ (k0_h3 : k0_cond3 i = 1#1), ∀ a, (k0_off2709 v2451) a + S8x128.size a ≤ S131072x128.size a)
theorem k0_mult1345_dvd : ∀ (i : grid0.Coords) (v2451 : BitVec 32) (k0_hw673 : k0_chk673 i v2451), ∀ (k0_h3 : k0_cond3 i = 1#1), 8 ∣ (k0_mult1345 v2451).toNat := fun i v2451 k0_hw673 k0_h3 => k0_hw673.1 k0_h3
theorem k0_off2709_inb : ∀ (i : grid0.Coords) (v2451 : BitVec 32) (k0_hw673 : k0_chk673 i v2451), ∀ (k0_h3 : k0_cond3 i = 1#1), ∀ a, (k0_off2709 v2451) a + S8x128.size a ≤ S131072x128.size a := fun i v2451 k0_hw673 k0_h3 => k0_hw673.2 k0_h3

def k0_off2710 (i : grid0.Coords) : Fin 3 → Nat :=
  let c0_1479 : Index := 0#32
  let c0_1480 : Index := 0#32
  let arg1 : BitVec 32 := BitVec.ofNat 32 (i 1).val
  let c2_i32_1475 : BitVec 32 := 2#32
  let v2460 : BitVec 32 := Scalar.muli arg1 c2_i32_1475
  let c0_i32_1476 : BitVec 32 := 0#32
  let v2461 : BitVec 32 := Scalar.addi v2460 c0_i32_1476
  let c256_i32_1477 : BitVec 32 := 256#32
  let v2462 : BitVec 32 := Scalar.muli v2461 c256_i32_1477
  let c160_i32 : BitVec 32 := 160#32
  let v2463 : BitVec 32 := Scalar.addi v2462 c160_i32
  let v2465 : Index := Scalar.indexCast v2463
  ![0, 0, v2465.toNat]
def k0_mult1347 (v2466 : BitVec 32) : BitVec 32 :=
  v2466

def k0_mult1348 (i : grid0.Coords) : BitVec 32 :=
  let arg1 : BitVec 32 := BitVec.ofNat 32 (i 1).val
  let c2_i32_1475 : BitVec 32 := 2#32
  let v2460 : BitVec 32 := Scalar.muli arg1 c2_i32_1475
  let c0_i32_1476 : BitVec 32 := 0#32
  let v2461 : BitVec 32 := Scalar.addi v2460 c0_i32_1476
  let c256_i32_1477 : BitVec 32 := 256#32
  let v2462 : BitVec 32 := Scalar.muli v2461 c256_i32_1477
  let c160_i32 : BitVec 32 := 160#32
  let v2463 : BitVec 32 := Scalar.addi v2462 c160_i32
  let c8_i32_1481 : BitVec 32 := 8#32
  let v2468 : BitVec 32 := Scalar.muli v2463 c8_i32_1481
  v2468
def k0_off2711 (i : grid0.Coords) : Fin 1 → Nat :=
  let c1_i32_1478 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2464 : BitVec 32 := Scalar.subi c1_i32_1478 v9
  ![v2464.toNat]
def k0_off2712 (i : grid0.Coords) : Fin 3 → Nat :=
  let c1_i32_1478 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2464 : BitVec 32 := Scalar.subi c1_i32_1478 v9
  let arg1 : BitVec 32 := BitVec.ofNat 32 (i 1).val
  let c2_i32_1475 : BitVec 32 := 2#32
  let v2460 : BitVec 32 := Scalar.muli arg1 c2_i32_1475
  let c0_i32_1476 : BitVec 32 := 0#32
  let v2461 : BitVec 32 := Scalar.addi v2460 c0_i32_1476
  let c256_i32_1477 : BitVec 32 := 256#32
  let v2462 : BitVec 32 := Scalar.muli v2461 c256_i32_1477
  let c160_i32 : BitVec 32 := 160#32
  let v2463 : BitVec 32 := Scalar.addi v2462 c160_i32
  let c8_i32_1481 : BitVec 32 := 8#32
  let v2468 : BitVec 32 := Scalar.muli v2463 c8_i32_1481
  let v2469 : BitVec 32 := v2468
  let c0_i32_1482 : BitVec 32 := 0#32
  ![v2464.toNat, v2469.toNat, 0]
def k0_off2713 (v2466 : BitVec 32) : Fin 2 → Nat :=
  let v2467 : BitVec 32 := v2466
  let c0_i32_1483 : BitVec 32 := 0#32
  ![v2467.toNat, 0]

def k0_chk674 (i : grid0.Coords) (v2466 : BitVec 32) : Prop :=
  (∀ (k0_h3 : k0_cond3 i = 1#1), 8 ∣ (k0_mult1347 v2466).toNat) ∧
  (∀ (k0_h3 : k0_cond3 i = 1#1), ∀ a, (k0_off2713 v2466) a + S8x128.size a ≤ S131072x128.size a)
theorem k0_mult1347_dvd : ∀ (i : grid0.Coords) (v2466 : BitVec 32) (k0_hw674 : k0_chk674 i v2466), ∀ (k0_h3 : k0_cond3 i = 1#1), 8 ∣ (k0_mult1347 v2466).toNat := fun i v2466 k0_hw674 k0_h3 => k0_hw674.1 k0_h3
theorem k0_off2713_inb : ∀ (i : grid0.Coords) (v2466 : BitVec 32) (k0_hw674 : k0_chk674 i v2466), ∀ (k0_h3 : k0_cond3 i = 1#1), ∀ a, (k0_off2713 v2466) a + S8x128.size a ≤ S131072x128.size a := fun i v2466 k0_hw674 k0_h3 => k0_hw674.2 k0_h3

def k0_off2714 (i : grid0.Coords) : Fin 3 → Nat :=
  let c0_1488 : Index := 0#32
  let c0_1489 : Index := 0#32
  let arg1 : BitVec 32 := BitVec.ofNat 32 (i 1).val
  let c2_i32_1484 : BitVec 32 := 2#32
  let v2475 : BitVec 32 := Scalar.muli arg1 c2_i32_1484
  let c0_i32_1485 : BitVec 32 := 0#32
  let v2476 : BitVec 32 := Scalar.addi v2475 c0_i32_1485
  let c256_i32_1486 : BitVec 32 := 256#32
  let v2477 : BitVec 32 := Scalar.muli v2476 c256_i32_1486
  let c161_i32 : BitVec 32 := 161#32
  let v2478 : BitVec 32 := Scalar.addi v2477 c161_i32
  let v2480 : Index := Scalar.indexCast v2478
  ![0, 0, v2480.toNat]
def k0_mult1349 (v2481 : BitVec 32) : BitVec 32 :=
  v2481

def k0_mult1350 (i : grid0.Coords) : BitVec 32 :=
  let arg1 : BitVec 32 := BitVec.ofNat 32 (i 1).val
  let c2_i32_1484 : BitVec 32 := 2#32
  let v2475 : BitVec 32 := Scalar.muli arg1 c2_i32_1484
  let c0_i32_1485 : BitVec 32 := 0#32
  let v2476 : BitVec 32 := Scalar.addi v2475 c0_i32_1485
  let c256_i32_1486 : BitVec 32 := 256#32
  let v2477 : BitVec 32 := Scalar.muli v2476 c256_i32_1486
  let c161_i32 : BitVec 32 := 161#32
  let v2478 : BitVec 32 := Scalar.addi v2477 c161_i32
  let c8_i32_1490 : BitVec 32 := 8#32
  let v2483 : BitVec 32 := Scalar.muli v2478 c8_i32_1490
  v2483
def k0_off2715 (i : grid0.Coords) : Fin 1 → Nat :=
  let c1_i32_1487 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2479 : BitVec 32 := Scalar.subi c1_i32_1487 v9
  ![v2479.toNat]
def k0_off2716 (i : grid0.Coords) : Fin 3 → Nat :=
  let c1_i32_1487 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2479 : BitVec 32 := Scalar.subi c1_i32_1487 v9
  let arg1 : BitVec 32 := BitVec.ofNat 32 (i 1).val
  let c2_i32_1484 : BitVec 32 := 2#32
  let v2475 : BitVec 32 := Scalar.muli arg1 c2_i32_1484
  let c0_i32_1485 : BitVec 32 := 0#32
  let v2476 : BitVec 32 := Scalar.addi v2475 c0_i32_1485
  let c256_i32_1486 : BitVec 32 := 256#32
  let v2477 : BitVec 32 := Scalar.muli v2476 c256_i32_1486
  let c161_i32 : BitVec 32 := 161#32
  let v2478 : BitVec 32 := Scalar.addi v2477 c161_i32
  let c8_i32_1490 : BitVec 32 := 8#32
  let v2483 : BitVec 32 := Scalar.muli v2478 c8_i32_1490
  let v2484 : BitVec 32 := v2483
  let c0_i32_1491 : BitVec 32 := 0#32
  ![v2479.toNat, v2484.toNat, 0]
def k0_off2717 (v2481 : BitVec 32) : Fin 2 → Nat :=
  let v2482 : BitVec 32 := v2481
  let c0_i32_1492 : BitVec 32 := 0#32
  ![v2482.toNat, 0]

def k0_chk675 (i : grid0.Coords) (v2481 : BitVec 32) : Prop :=
  (∀ (k0_h3 : k0_cond3 i = 1#1), 8 ∣ (k0_mult1349 v2481).toNat) ∧
  (∀ (k0_h3 : k0_cond3 i = 1#1), ∀ a, (k0_off2717 v2481) a + S8x128.size a ≤ S131072x128.size a)
theorem k0_mult1349_dvd : ∀ (i : grid0.Coords) (v2481 : BitVec 32) (k0_hw675 : k0_chk675 i v2481), ∀ (k0_h3 : k0_cond3 i = 1#1), 8 ∣ (k0_mult1349 v2481).toNat := fun i v2481 k0_hw675 k0_h3 => k0_hw675.1 k0_h3
theorem k0_off2717_inb : ∀ (i : grid0.Coords) (v2481 : BitVec 32) (k0_hw675 : k0_chk675 i v2481), ∀ (k0_h3 : k0_cond3 i = 1#1), ∀ a, (k0_off2717 v2481) a + S8x128.size a ≤ S131072x128.size a := fun i v2481 k0_hw675 k0_h3 => k0_hw675.2 k0_h3

def k0_off2718 (i : grid0.Coords) : Fin 3 → Nat :=
  let c0_1497 : Index := 0#32
  let c0_1498 : Index := 0#32
  let arg1 : BitVec 32 := BitVec.ofNat 32 (i 1).val
  let c2_i32_1493 : BitVec 32 := 2#32
  let v2490 : BitVec 32 := Scalar.muli arg1 c2_i32_1493
  let c0_i32_1494 : BitVec 32 := 0#32
  let v2491 : BitVec 32 := Scalar.addi v2490 c0_i32_1494
  let c256_i32_1495 : BitVec 32 := 256#32
  let v2492 : BitVec 32 := Scalar.muli v2491 c256_i32_1495
  let c162_i32 : BitVec 32 := 162#32
  let v2493 : BitVec 32 := Scalar.addi v2492 c162_i32
  let v2495 : Index := Scalar.indexCast v2493
  ![0, 0, v2495.toNat]
def k0_mult1351 (v2496 : BitVec 32) : BitVec 32 :=
  v2496

def k0_mult1352 (i : grid0.Coords) : BitVec 32 :=
  let arg1 : BitVec 32 := BitVec.ofNat 32 (i 1).val
  let c2_i32_1493 : BitVec 32 := 2#32
  let v2490 : BitVec 32 := Scalar.muli arg1 c2_i32_1493
  let c0_i32_1494 : BitVec 32 := 0#32
  let v2491 : BitVec 32 := Scalar.addi v2490 c0_i32_1494
  let c256_i32_1495 : BitVec 32 := 256#32
  let v2492 : BitVec 32 := Scalar.muli v2491 c256_i32_1495
  let c162_i32 : BitVec 32 := 162#32
  let v2493 : BitVec 32 := Scalar.addi v2492 c162_i32
  let c8_i32_1499 : BitVec 32 := 8#32
  let v2498 : BitVec 32 := Scalar.muli v2493 c8_i32_1499
  v2498
def k0_off2719 (i : grid0.Coords) : Fin 1 → Nat :=
  let c1_i32_1496 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2494 : BitVec 32 := Scalar.subi c1_i32_1496 v9
  ![v2494.toNat]
def k0_off2720 (i : grid0.Coords) : Fin 3 → Nat :=
  let c1_i32_1496 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2494 : BitVec 32 := Scalar.subi c1_i32_1496 v9
  let arg1 : BitVec 32 := BitVec.ofNat 32 (i 1).val
  let c2_i32_1493 : BitVec 32 := 2#32
  let v2490 : BitVec 32 := Scalar.muli arg1 c2_i32_1493
  let c0_i32_1494 : BitVec 32 := 0#32
  let v2491 : BitVec 32 := Scalar.addi v2490 c0_i32_1494
  let c256_i32_1495 : BitVec 32 := 256#32
  let v2492 : BitVec 32 := Scalar.muli v2491 c256_i32_1495
  let c162_i32 : BitVec 32 := 162#32
  let v2493 : BitVec 32 := Scalar.addi v2492 c162_i32
  let c8_i32_1499 : BitVec 32 := 8#32
  let v2498 : BitVec 32 := Scalar.muli v2493 c8_i32_1499
  let v2499 : BitVec 32 := v2498
  let c0_i32_1500 : BitVec 32 := 0#32
  ![v2494.toNat, v2499.toNat, 0]
def k0_off2721 (v2496 : BitVec 32) : Fin 2 → Nat :=
  let v2497 : BitVec 32 := v2496
  let c0_i32_1501 : BitVec 32 := 0#32
  ![v2497.toNat, 0]

def k0_chk676 (i : grid0.Coords) (v2496 : BitVec 32) : Prop :=
  (∀ (k0_h3 : k0_cond3 i = 1#1), 8 ∣ (k0_mult1351 v2496).toNat) ∧
  (∀ (k0_h3 : k0_cond3 i = 1#1), ∀ a, (k0_off2721 v2496) a + S8x128.size a ≤ S131072x128.size a)
theorem k0_mult1351_dvd : ∀ (i : grid0.Coords) (v2496 : BitVec 32) (k0_hw676 : k0_chk676 i v2496), ∀ (k0_h3 : k0_cond3 i = 1#1), 8 ∣ (k0_mult1351 v2496).toNat := fun i v2496 k0_hw676 k0_h3 => k0_hw676.1 k0_h3
theorem k0_off2721_inb : ∀ (i : grid0.Coords) (v2496 : BitVec 32) (k0_hw676 : k0_chk676 i v2496), ∀ (k0_h3 : k0_cond3 i = 1#1), ∀ a, (k0_off2721 v2496) a + S8x128.size a ≤ S131072x128.size a := fun i v2496 k0_hw676 k0_h3 => k0_hw676.2 k0_h3

def k0_off2722 (i : grid0.Coords) : Fin 3 → Nat :=
  let c0_1506 : Index := 0#32
  let c0_1507 : Index := 0#32
  let arg1 : BitVec 32 := BitVec.ofNat 32 (i 1).val
  let c2_i32_1502 : BitVec 32 := 2#32
  let v2505 : BitVec 32 := Scalar.muli arg1 c2_i32_1502
  let c0_i32_1503 : BitVec 32 := 0#32
  let v2506 : BitVec 32 := Scalar.addi v2505 c0_i32_1503
  let c256_i32_1504 : BitVec 32 := 256#32
  let v2507 : BitVec 32 := Scalar.muli v2506 c256_i32_1504
  let c163_i32 : BitVec 32 := 163#32
  let v2508 : BitVec 32 := Scalar.addi v2507 c163_i32
  let v2510 : Index := Scalar.indexCast v2508
  ![0, 0, v2510.toNat]
def k0_mult1353 (v2511 : BitVec 32) : BitVec 32 :=
  v2511

def k0_mult1354 (i : grid0.Coords) : BitVec 32 :=
  let arg1 : BitVec 32 := BitVec.ofNat 32 (i 1).val
  let c2_i32_1502 : BitVec 32 := 2#32
  let v2505 : BitVec 32 := Scalar.muli arg1 c2_i32_1502
  let c0_i32_1503 : BitVec 32 := 0#32
  let v2506 : BitVec 32 := Scalar.addi v2505 c0_i32_1503
  let c256_i32_1504 : BitVec 32 := 256#32
  let v2507 : BitVec 32 := Scalar.muli v2506 c256_i32_1504
  let c163_i32 : BitVec 32 := 163#32
  let v2508 : BitVec 32 := Scalar.addi v2507 c163_i32
  let c8_i32_1508 : BitVec 32 := 8#32
  let v2513 : BitVec 32 := Scalar.muli v2508 c8_i32_1508
  v2513
def k0_off2723 (i : grid0.Coords) : Fin 1 → Nat :=
  let c1_i32_1505 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2509 : BitVec 32 := Scalar.subi c1_i32_1505 v9
  ![v2509.toNat]
def k0_off2724 (i : grid0.Coords) : Fin 3 → Nat :=
  let c1_i32_1505 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2509 : BitVec 32 := Scalar.subi c1_i32_1505 v9
  let arg1 : BitVec 32 := BitVec.ofNat 32 (i 1).val
  let c2_i32_1502 : BitVec 32 := 2#32
  let v2505 : BitVec 32 := Scalar.muli arg1 c2_i32_1502
  let c0_i32_1503 : BitVec 32 := 0#32
  let v2506 : BitVec 32 := Scalar.addi v2505 c0_i32_1503
  let c256_i32_1504 : BitVec 32 := 256#32
  let v2507 : BitVec 32 := Scalar.muli v2506 c256_i32_1504
  let c163_i32 : BitVec 32 := 163#32
  let v2508 : BitVec 32 := Scalar.addi v2507 c163_i32
  let c8_i32_1508 : BitVec 32 := 8#32
  let v2513 : BitVec 32 := Scalar.muli v2508 c8_i32_1508
  let v2514 : BitVec 32 := v2513
  let c0_i32_1509 : BitVec 32 := 0#32
  ![v2509.toNat, v2514.toNat, 0]
def k0_off2725 (v2511 : BitVec 32) : Fin 2 → Nat :=
  let v2512 : BitVec 32 := v2511
  let c0_i32_1510 : BitVec 32 := 0#32
  ![v2512.toNat, 0]

def k0_chk677 (i : grid0.Coords) (v2511 : BitVec 32) : Prop :=
  (∀ (k0_h3 : k0_cond3 i = 1#1), 8 ∣ (k0_mult1353 v2511).toNat) ∧
  (∀ (k0_h3 : k0_cond3 i = 1#1), ∀ a, (k0_off2725 v2511) a + S8x128.size a ≤ S131072x128.size a)
theorem k0_mult1353_dvd : ∀ (i : grid0.Coords) (v2511 : BitVec 32) (k0_hw677 : k0_chk677 i v2511), ∀ (k0_h3 : k0_cond3 i = 1#1), 8 ∣ (k0_mult1353 v2511).toNat := fun i v2511 k0_hw677 k0_h3 => k0_hw677.1 k0_h3
theorem k0_off2725_inb : ∀ (i : grid0.Coords) (v2511 : BitVec 32) (k0_hw677 : k0_chk677 i v2511), ∀ (k0_h3 : k0_cond3 i = 1#1), ∀ a, (k0_off2725 v2511) a + S8x128.size a ≤ S131072x128.size a := fun i v2511 k0_hw677 k0_h3 => k0_hw677.2 k0_h3

def k0_off2726 (i : grid0.Coords) : Fin 3 → Nat :=
  let c0_1515 : Index := 0#32
  let c0_1516 : Index := 0#32
  let arg1 : BitVec 32 := BitVec.ofNat 32 (i 1).val
  let c2_i32_1511 : BitVec 32 := 2#32
  let v2520 : BitVec 32 := Scalar.muli arg1 c2_i32_1511
  let c0_i32_1512 : BitVec 32 := 0#32
  let v2521 : BitVec 32 := Scalar.addi v2520 c0_i32_1512
  let c256_i32_1513 : BitVec 32 := 256#32
  let v2522 : BitVec 32 := Scalar.muli v2521 c256_i32_1513
  let c164_i32 : BitVec 32 := 164#32
  let v2523 : BitVec 32 := Scalar.addi v2522 c164_i32
  let v2525 : Index := Scalar.indexCast v2523
  ![0, 0, v2525.toNat]
def k0_mult1355 (v2526 : BitVec 32) : BitVec 32 :=
  v2526

def k0_mult1356 (i : grid0.Coords) : BitVec 32 :=
  let arg1 : BitVec 32 := BitVec.ofNat 32 (i 1).val
  let c2_i32_1511 : BitVec 32 := 2#32
  let v2520 : BitVec 32 := Scalar.muli arg1 c2_i32_1511
  let c0_i32_1512 : BitVec 32 := 0#32
  let v2521 : BitVec 32 := Scalar.addi v2520 c0_i32_1512
  let c256_i32_1513 : BitVec 32 := 256#32
  let v2522 : BitVec 32 := Scalar.muli v2521 c256_i32_1513
  let c164_i32 : BitVec 32 := 164#32
  let v2523 : BitVec 32 := Scalar.addi v2522 c164_i32
  let c8_i32_1517 : BitVec 32 := 8#32
  let v2528 : BitVec 32 := Scalar.muli v2523 c8_i32_1517
  v2528
def k0_off2727 (i : grid0.Coords) : Fin 1 → Nat :=
  let c1_i32_1514 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2524 : BitVec 32 := Scalar.subi c1_i32_1514 v9
  ![v2524.toNat]
def k0_off2728 (i : grid0.Coords) : Fin 3 → Nat :=
  let c1_i32_1514 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2524 : BitVec 32 := Scalar.subi c1_i32_1514 v9
  let arg1 : BitVec 32 := BitVec.ofNat 32 (i 1).val
  let c2_i32_1511 : BitVec 32 := 2#32
  let v2520 : BitVec 32 := Scalar.muli arg1 c2_i32_1511
  let c0_i32_1512 : BitVec 32 := 0#32
  let v2521 : BitVec 32 := Scalar.addi v2520 c0_i32_1512
  let c256_i32_1513 : BitVec 32 := 256#32
  let v2522 : BitVec 32 := Scalar.muli v2521 c256_i32_1513
  let c164_i32 : BitVec 32 := 164#32
  let v2523 : BitVec 32 := Scalar.addi v2522 c164_i32
  let c8_i32_1517 : BitVec 32 := 8#32
  let v2528 : BitVec 32 := Scalar.muli v2523 c8_i32_1517
  let v2529 : BitVec 32 := v2528
  let c0_i32_1518 : BitVec 32 := 0#32
  ![v2524.toNat, v2529.toNat, 0]
def k0_off2729 (v2526 : BitVec 32) : Fin 2 → Nat :=
  let v2527 : BitVec 32 := v2526
  let c0_i32_1519 : BitVec 32 := 0#32
  ![v2527.toNat, 0]

def k0_chk678 (i : grid0.Coords) (v2526 : BitVec 32) : Prop :=
  (∀ (k0_h3 : k0_cond3 i = 1#1), 8 ∣ (k0_mult1355 v2526).toNat) ∧
  (∀ (k0_h3 : k0_cond3 i = 1#1), ∀ a, (k0_off2729 v2526) a + S8x128.size a ≤ S131072x128.size a)
theorem k0_mult1355_dvd : ∀ (i : grid0.Coords) (v2526 : BitVec 32) (k0_hw678 : k0_chk678 i v2526), ∀ (k0_h3 : k0_cond3 i = 1#1), 8 ∣ (k0_mult1355 v2526).toNat := fun i v2526 k0_hw678 k0_h3 => k0_hw678.1 k0_h3
theorem k0_off2729_inb : ∀ (i : grid0.Coords) (v2526 : BitVec 32) (k0_hw678 : k0_chk678 i v2526), ∀ (k0_h3 : k0_cond3 i = 1#1), ∀ a, (k0_off2729 v2526) a + S8x128.size a ≤ S131072x128.size a := fun i v2526 k0_hw678 k0_h3 => k0_hw678.2 k0_h3

def k0_off2730 (i : grid0.Coords) : Fin 3 → Nat :=
  let c0_1524 : Index := 0#32
  let c0_1525 : Index := 0#32
  let arg1 : BitVec 32 := BitVec.ofNat 32 (i 1).val
  let c2_i32_1520 : BitVec 32 := 2#32
  let v2535 : BitVec 32 := Scalar.muli arg1 c2_i32_1520
  let c0_i32_1521 : BitVec 32 := 0#32
  let v2536 : BitVec 32 := Scalar.addi v2535 c0_i32_1521
  let c256_i32_1522 : BitVec 32 := 256#32
  let v2537 : BitVec 32 := Scalar.muli v2536 c256_i32_1522
  let c165_i32 : BitVec 32 := 165#32
  let v2538 : BitVec 32 := Scalar.addi v2537 c165_i32
  let v2540 : Index := Scalar.indexCast v2538
  ![0, 0, v2540.toNat]
def k0_mult1357 (v2541 : BitVec 32) : BitVec 32 :=
  v2541

def k0_mult1358 (i : grid0.Coords) : BitVec 32 :=
  let arg1 : BitVec 32 := BitVec.ofNat 32 (i 1).val
  let c2_i32_1520 : BitVec 32 := 2#32
  let v2535 : BitVec 32 := Scalar.muli arg1 c2_i32_1520
  let c0_i32_1521 : BitVec 32 := 0#32
  let v2536 : BitVec 32 := Scalar.addi v2535 c0_i32_1521
  let c256_i32_1522 : BitVec 32 := 256#32
  let v2537 : BitVec 32 := Scalar.muli v2536 c256_i32_1522
  let c165_i32 : BitVec 32 := 165#32
  let v2538 : BitVec 32 := Scalar.addi v2537 c165_i32
  let c8_i32_1526 : BitVec 32 := 8#32
  let v2543 : BitVec 32 := Scalar.muli v2538 c8_i32_1526
  v2543
def k0_off2731 (i : grid0.Coords) : Fin 1 → Nat :=
  let c1_i32_1523 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2539 : BitVec 32 := Scalar.subi c1_i32_1523 v9
  ![v2539.toNat]
def k0_off2732 (i : grid0.Coords) : Fin 3 → Nat :=
  let c1_i32_1523 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2539 : BitVec 32 := Scalar.subi c1_i32_1523 v9
  let arg1 : BitVec 32 := BitVec.ofNat 32 (i 1).val
  let c2_i32_1520 : BitVec 32 := 2#32
  let v2535 : BitVec 32 := Scalar.muli arg1 c2_i32_1520
  let c0_i32_1521 : BitVec 32 := 0#32
  let v2536 : BitVec 32 := Scalar.addi v2535 c0_i32_1521
  let c256_i32_1522 : BitVec 32 := 256#32
  let v2537 : BitVec 32 := Scalar.muli v2536 c256_i32_1522
  let c165_i32 : BitVec 32 := 165#32
  let v2538 : BitVec 32 := Scalar.addi v2537 c165_i32
  let c8_i32_1526 : BitVec 32 := 8#32
  let v2543 : BitVec 32 := Scalar.muli v2538 c8_i32_1526
  let v2544 : BitVec 32 := v2543
  let c0_i32_1527 : BitVec 32 := 0#32
  ![v2539.toNat, v2544.toNat, 0]
def k0_off2733 (v2541 : BitVec 32) : Fin 2 → Nat :=
  let v2542 : BitVec 32 := v2541
  let c0_i32_1528 : BitVec 32 := 0#32
  ![v2542.toNat, 0]

def k0_chk679 (i : grid0.Coords) (v2541 : BitVec 32) : Prop :=
  (∀ (k0_h3 : k0_cond3 i = 1#1), 8 ∣ (k0_mult1357 v2541).toNat) ∧
  (∀ (k0_h3 : k0_cond3 i = 1#1), ∀ a, (k0_off2733 v2541) a + S8x128.size a ≤ S131072x128.size a)
theorem k0_mult1357_dvd : ∀ (i : grid0.Coords) (v2541 : BitVec 32) (k0_hw679 : k0_chk679 i v2541), ∀ (k0_h3 : k0_cond3 i = 1#1), 8 ∣ (k0_mult1357 v2541).toNat := fun i v2541 k0_hw679 k0_h3 => k0_hw679.1 k0_h3
theorem k0_off2733_inb : ∀ (i : grid0.Coords) (v2541 : BitVec 32) (k0_hw679 : k0_chk679 i v2541), ∀ (k0_h3 : k0_cond3 i = 1#1), ∀ a, (k0_off2733 v2541) a + S8x128.size a ≤ S131072x128.size a := fun i v2541 k0_hw679 k0_h3 => k0_hw679.2 k0_h3

def k0_off2734 (i : grid0.Coords) : Fin 3 → Nat :=
  let c0_1533 : Index := 0#32
  let c0_1534 : Index := 0#32
  let arg1 : BitVec 32 := BitVec.ofNat 32 (i 1).val
  let c2_i32_1529 : BitVec 32 := 2#32
  let v2550 : BitVec 32 := Scalar.muli arg1 c2_i32_1529
  let c0_i32_1530 : BitVec 32 := 0#32
  let v2551 : BitVec 32 := Scalar.addi v2550 c0_i32_1530
  let c256_i32_1531 : BitVec 32 := 256#32
  let v2552 : BitVec 32 := Scalar.muli v2551 c256_i32_1531
  let c166_i32 : BitVec 32 := 166#32
  let v2553 : BitVec 32 := Scalar.addi v2552 c166_i32
  let v2555 : Index := Scalar.indexCast v2553
  ![0, 0, v2555.toNat]
def k0_mult1359 (v2556 : BitVec 32) : BitVec 32 :=
  v2556

def k0_mult1360 (i : grid0.Coords) : BitVec 32 :=
  let arg1 : BitVec 32 := BitVec.ofNat 32 (i 1).val
  let c2_i32_1529 : BitVec 32 := 2#32
  let v2550 : BitVec 32 := Scalar.muli arg1 c2_i32_1529
  let c0_i32_1530 : BitVec 32 := 0#32
  let v2551 : BitVec 32 := Scalar.addi v2550 c0_i32_1530
  let c256_i32_1531 : BitVec 32 := 256#32
  let v2552 : BitVec 32 := Scalar.muli v2551 c256_i32_1531
  let c166_i32 : BitVec 32 := 166#32
  let v2553 : BitVec 32 := Scalar.addi v2552 c166_i32
  let c8_i32_1535 : BitVec 32 := 8#32
  let v2558 : BitVec 32 := Scalar.muli v2553 c8_i32_1535
  v2558
def k0_off2735 (i : grid0.Coords) : Fin 1 → Nat :=
  let c1_i32_1532 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2554 : BitVec 32 := Scalar.subi c1_i32_1532 v9
  ![v2554.toNat]
def k0_off2736 (i : grid0.Coords) : Fin 3 → Nat :=
  let c1_i32_1532 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2554 : BitVec 32 := Scalar.subi c1_i32_1532 v9
  let arg1 : BitVec 32 := BitVec.ofNat 32 (i 1).val
  let c2_i32_1529 : BitVec 32 := 2#32
  let v2550 : BitVec 32 := Scalar.muli arg1 c2_i32_1529
  let c0_i32_1530 : BitVec 32 := 0#32
  let v2551 : BitVec 32 := Scalar.addi v2550 c0_i32_1530
  let c256_i32_1531 : BitVec 32 := 256#32
  let v2552 : BitVec 32 := Scalar.muli v2551 c256_i32_1531
  let c166_i32 : BitVec 32 := 166#32
  let v2553 : BitVec 32 := Scalar.addi v2552 c166_i32
  let c8_i32_1535 : BitVec 32 := 8#32
  let v2558 : BitVec 32 := Scalar.muli v2553 c8_i32_1535
  let v2559 : BitVec 32 := v2558
  let c0_i32_1536 : BitVec 32 := 0#32
  ![v2554.toNat, v2559.toNat, 0]
def k0_off2737 (v2556 : BitVec 32) : Fin 2 → Nat :=
  let v2557 : BitVec 32 := v2556
  let c0_i32_1537 : BitVec 32 := 0#32
  ![v2557.toNat, 0]

def k0_chk680 (i : grid0.Coords) (v2556 : BitVec 32) : Prop :=
  (∀ (k0_h3 : k0_cond3 i = 1#1), 8 ∣ (k0_mult1359 v2556).toNat) ∧
  (∀ (k0_h3 : k0_cond3 i = 1#1), ∀ a, (k0_off2737 v2556) a + S8x128.size a ≤ S131072x128.size a)
theorem k0_mult1359_dvd : ∀ (i : grid0.Coords) (v2556 : BitVec 32) (k0_hw680 : k0_chk680 i v2556), ∀ (k0_h3 : k0_cond3 i = 1#1), 8 ∣ (k0_mult1359 v2556).toNat := fun i v2556 k0_hw680 k0_h3 => k0_hw680.1 k0_h3
theorem k0_off2737_inb : ∀ (i : grid0.Coords) (v2556 : BitVec 32) (k0_hw680 : k0_chk680 i v2556), ∀ (k0_h3 : k0_cond3 i = 1#1), ∀ a, (k0_off2737 v2556) a + S8x128.size a ≤ S131072x128.size a := fun i v2556 k0_hw680 k0_h3 => k0_hw680.2 k0_h3

def k0_off2738 (i : grid0.Coords) : Fin 3 → Nat :=
  let c0_1542 : Index := 0#32
  let c0_1543 : Index := 0#32
  let arg1 : BitVec 32 := BitVec.ofNat 32 (i 1).val
  let c2_i32_1538 : BitVec 32 := 2#32
  let v2565 : BitVec 32 := Scalar.muli arg1 c2_i32_1538
  let c0_i32_1539 : BitVec 32 := 0#32
  let v2566 : BitVec 32 := Scalar.addi v2565 c0_i32_1539
  let c256_i32_1540 : BitVec 32 := 256#32
  let v2567 : BitVec 32 := Scalar.muli v2566 c256_i32_1540
  let c167_i32 : BitVec 32 := 167#32
  let v2568 : BitVec 32 := Scalar.addi v2567 c167_i32
  let v2570 : Index := Scalar.indexCast v2568
  ![0, 0, v2570.toNat]
def k0_mult1361 (v2571 : BitVec 32) : BitVec 32 :=
  v2571

def k0_mult1362 (i : grid0.Coords) : BitVec 32 :=
  let arg1 : BitVec 32 := BitVec.ofNat 32 (i 1).val
  let c2_i32_1538 : BitVec 32 := 2#32
  let v2565 : BitVec 32 := Scalar.muli arg1 c2_i32_1538
  let c0_i32_1539 : BitVec 32 := 0#32
  let v2566 : BitVec 32 := Scalar.addi v2565 c0_i32_1539
  let c256_i32_1540 : BitVec 32 := 256#32
  let v2567 : BitVec 32 := Scalar.muli v2566 c256_i32_1540
  let c167_i32 : BitVec 32 := 167#32
  let v2568 : BitVec 32 := Scalar.addi v2567 c167_i32
  let c8_i32_1544 : BitVec 32 := 8#32
  let v2573 : BitVec 32 := Scalar.muli v2568 c8_i32_1544
  v2573
def k0_off2739 (i : grid0.Coords) : Fin 1 → Nat :=
  let c1_i32_1541 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2569 : BitVec 32 := Scalar.subi c1_i32_1541 v9
  ![v2569.toNat]
def k0_off2740 (i : grid0.Coords) : Fin 3 → Nat :=
  let c1_i32_1541 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2569 : BitVec 32 := Scalar.subi c1_i32_1541 v9
  let arg1 : BitVec 32 := BitVec.ofNat 32 (i 1).val
  let c2_i32_1538 : BitVec 32 := 2#32
  let v2565 : BitVec 32 := Scalar.muli arg1 c2_i32_1538
  let c0_i32_1539 : BitVec 32 := 0#32
  let v2566 : BitVec 32 := Scalar.addi v2565 c0_i32_1539
  let c256_i32_1540 : BitVec 32 := 256#32
  let v2567 : BitVec 32 := Scalar.muli v2566 c256_i32_1540
  let c167_i32 : BitVec 32 := 167#32
  let v2568 : BitVec 32 := Scalar.addi v2567 c167_i32
  let c8_i32_1544 : BitVec 32 := 8#32
  let v2573 : BitVec 32 := Scalar.muli v2568 c8_i32_1544
  let v2574 : BitVec 32 := v2573
  let c0_i32_1545 : BitVec 32 := 0#32
  ![v2569.toNat, v2574.toNat, 0]
def k0_off2741 (v2571 : BitVec 32) : Fin 2 → Nat :=
  let v2572 : BitVec 32 := v2571
  let c0_i32_1546 : BitVec 32 := 0#32
  ![v2572.toNat, 0]

def k0_chk681 (i : grid0.Coords) (v2571 : BitVec 32) : Prop :=
  (∀ (k0_h3 : k0_cond3 i = 1#1), 8 ∣ (k0_mult1361 v2571).toNat) ∧
  (∀ (k0_h3 : k0_cond3 i = 1#1), ∀ a, (k0_off2741 v2571) a + S8x128.size a ≤ S131072x128.size a)
theorem k0_mult1361_dvd : ∀ (i : grid0.Coords) (v2571 : BitVec 32) (k0_hw681 : k0_chk681 i v2571), ∀ (k0_h3 : k0_cond3 i = 1#1), 8 ∣ (k0_mult1361 v2571).toNat := fun i v2571 k0_hw681 k0_h3 => k0_hw681.1 k0_h3
theorem k0_off2741_inb : ∀ (i : grid0.Coords) (v2571 : BitVec 32) (k0_hw681 : k0_chk681 i v2571), ∀ (k0_h3 : k0_cond3 i = 1#1), ∀ a, (k0_off2741 v2571) a + S8x128.size a ≤ S131072x128.size a := fun i v2571 k0_hw681 k0_h3 => k0_hw681.2 k0_h3

def k0_off2742 (i : grid0.Coords) : Fin 3 → Nat :=
  let c0_1551 : Index := 0#32
  let c0_1552 : Index := 0#32
  let arg1 : BitVec 32 := BitVec.ofNat 32 (i 1).val
  let c2_i32_1547 : BitVec 32 := 2#32
  let v2580 : BitVec 32 := Scalar.muli arg1 c2_i32_1547
  let c0_i32_1548 : BitVec 32 := 0#32
  let v2581 : BitVec 32 := Scalar.addi v2580 c0_i32_1548
  let c256_i32_1549 : BitVec 32 := 256#32
  let v2582 : BitVec 32 := Scalar.muli v2581 c256_i32_1549
  let c168_i32 : BitVec 32 := 168#32
  let v2583 : BitVec 32 := Scalar.addi v2582 c168_i32
  let v2585 : Index := Scalar.indexCast v2583
  ![0, 0, v2585.toNat]
def k0_mult1363 (v2586 : BitVec 32) : BitVec 32 :=
  v2586

def k0_mult1364 (i : grid0.Coords) : BitVec 32 :=
  let arg1 : BitVec 32 := BitVec.ofNat 32 (i 1).val
  let c2_i32_1547 : BitVec 32 := 2#32
  let v2580 : BitVec 32 := Scalar.muli arg1 c2_i32_1547
  let c0_i32_1548 : BitVec 32 := 0#32
  let v2581 : BitVec 32 := Scalar.addi v2580 c0_i32_1548
  let c256_i32_1549 : BitVec 32 := 256#32
  let v2582 : BitVec 32 := Scalar.muli v2581 c256_i32_1549
  let c168_i32 : BitVec 32 := 168#32
  let v2583 : BitVec 32 := Scalar.addi v2582 c168_i32
  let c8_i32_1553 : BitVec 32 := 8#32
  let v2588 : BitVec 32 := Scalar.muli v2583 c8_i32_1553
  v2588
def k0_off2743 (i : grid0.Coords) : Fin 1 → Nat :=
  let c1_i32_1550 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2584 : BitVec 32 := Scalar.subi c1_i32_1550 v9
  ![v2584.toNat]
def k0_off2744 (i : grid0.Coords) : Fin 3 → Nat :=
  let c1_i32_1550 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2584 : BitVec 32 := Scalar.subi c1_i32_1550 v9
  let arg1 : BitVec 32 := BitVec.ofNat 32 (i 1).val
  let c2_i32_1547 : BitVec 32 := 2#32
  let v2580 : BitVec 32 := Scalar.muli arg1 c2_i32_1547
  let c0_i32_1548 : BitVec 32 := 0#32
  let v2581 : BitVec 32 := Scalar.addi v2580 c0_i32_1548
  let c256_i32_1549 : BitVec 32 := 256#32
  let v2582 : BitVec 32 := Scalar.muli v2581 c256_i32_1549
  let c168_i32 : BitVec 32 := 168#32
  let v2583 : BitVec 32 := Scalar.addi v2582 c168_i32
  let c8_i32_1553 : BitVec 32 := 8#32
  let v2588 : BitVec 32 := Scalar.muli v2583 c8_i32_1553
  let v2589 : BitVec 32 := v2588
  let c0_i32_1554 : BitVec 32 := 0#32
  ![v2584.toNat, v2589.toNat, 0]
def k0_off2745 (v2586 : BitVec 32) : Fin 2 → Nat :=
  let v2587 : BitVec 32 := v2586
  let c0_i32_1555 : BitVec 32 := 0#32
  ![v2587.toNat, 0]

def k0_chk682 (i : grid0.Coords) (v2586 : BitVec 32) : Prop :=
  (∀ (k0_h3 : k0_cond3 i = 1#1), 8 ∣ (k0_mult1363 v2586).toNat) ∧
  (∀ (k0_h3 : k0_cond3 i = 1#1), ∀ a, (k0_off2745 v2586) a + S8x128.size a ≤ S131072x128.size a)
theorem k0_mult1363_dvd : ∀ (i : grid0.Coords) (v2586 : BitVec 32) (k0_hw682 : k0_chk682 i v2586), ∀ (k0_h3 : k0_cond3 i = 1#1), 8 ∣ (k0_mult1363 v2586).toNat := fun i v2586 k0_hw682 k0_h3 => k0_hw682.1 k0_h3
theorem k0_off2745_inb : ∀ (i : grid0.Coords) (v2586 : BitVec 32) (k0_hw682 : k0_chk682 i v2586), ∀ (k0_h3 : k0_cond3 i = 1#1), ∀ a, (k0_off2745 v2586) a + S8x128.size a ≤ S131072x128.size a := fun i v2586 k0_hw682 k0_h3 => k0_hw682.2 k0_h3

def k0_off2746 (i : grid0.Coords) : Fin 3 → Nat :=
  let c0_1560 : Index := 0#32
  let c0_1561 : Index := 0#32
  let arg1 : BitVec 32 := BitVec.ofNat 32 (i 1).val
  let c2_i32_1556 : BitVec 32 := 2#32
  let v2595 : BitVec 32 := Scalar.muli arg1 c2_i32_1556
  let c0_i32_1557 : BitVec 32 := 0#32
  let v2596 : BitVec 32 := Scalar.addi v2595 c0_i32_1557
  let c256_i32_1558 : BitVec 32 := 256#32
  let v2597 : BitVec 32 := Scalar.muli v2596 c256_i32_1558
  let c169_i32 : BitVec 32 := 169#32
  let v2598 : BitVec 32 := Scalar.addi v2597 c169_i32
  let v2600 : Index := Scalar.indexCast v2598
  ![0, 0, v2600.toNat]
def k0_mult1365 (v2601 : BitVec 32) : BitVec 32 :=
  v2601

def k0_mult1366 (i : grid0.Coords) : BitVec 32 :=
  let arg1 : BitVec 32 := BitVec.ofNat 32 (i 1).val
  let c2_i32_1556 : BitVec 32 := 2#32
  let v2595 : BitVec 32 := Scalar.muli arg1 c2_i32_1556
  let c0_i32_1557 : BitVec 32 := 0#32
  let v2596 : BitVec 32 := Scalar.addi v2595 c0_i32_1557
  let c256_i32_1558 : BitVec 32 := 256#32
  let v2597 : BitVec 32 := Scalar.muli v2596 c256_i32_1558
  let c169_i32 : BitVec 32 := 169#32
  let v2598 : BitVec 32 := Scalar.addi v2597 c169_i32
  let c8_i32_1562 : BitVec 32 := 8#32
  let v2603 : BitVec 32 := Scalar.muli v2598 c8_i32_1562
  v2603
def k0_off2747 (i : grid0.Coords) : Fin 1 → Nat :=
  let c1_i32_1559 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2599 : BitVec 32 := Scalar.subi c1_i32_1559 v9
  ![v2599.toNat]
def k0_off2748 (i : grid0.Coords) : Fin 3 → Nat :=
  let c1_i32_1559 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2599 : BitVec 32 := Scalar.subi c1_i32_1559 v9
  let arg1 : BitVec 32 := BitVec.ofNat 32 (i 1).val
  let c2_i32_1556 : BitVec 32 := 2#32
  let v2595 : BitVec 32 := Scalar.muli arg1 c2_i32_1556
  let c0_i32_1557 : BitVec 32 := 0#32
  let v2596 : BitVec 32 := Scalar.addi v2595 c0_i32_1557
  let c256_i32_1558 : BitVec 32 := 256#32
  let v2597 : BitVec 32 := Scalar.muli v2596 c256_i32_1558
  let c169_i32 : BitVec 32 := 169#32
  let v2598 : BitVec 32 := Scalar.addi v2597 c169_i32
  let c8_i32_1562 : BitVec 32 := 8#32
  let v2603 : BitVec 32 := Scalar.muli v2598 c8_i32_1562
  let v2604 : BitVec 32 := v2603
  let c0_i32_1563 : BitVec 32 := 0#32
  ![v2599.toNat, v2604.toNat, 0]
def k0_off2749 (v2601 : BitVec 32) : Fin 2 → Nat :=
  let v2602 : BitVec 32 := v2601
  let c0_i32_1564 : BitVec 32 := 0#32
  ![v2602.toNat, 0]

def k0_chk683 (i : grid0.Coords) (v2601 : BitVec 32) : Prop :=
  (∀ (k0_h3 : k0_cond3 i = 1#1), 8 ∣ (k0_mult1365 v2601).toNat) ∧
  (∀ (k0_h3 : k0_cond3 i = 1#1), ∀ a, (k0_off2749 v2601) a + S8x128.size a ≤ S131072x128.size a)
theorem k0_mult1365_dvd : ∀ (i : grid0.Coords) (v2601 : BitVec 32) (k0_hw683 : k0_chk683 i v2601), ∀ (k0_h3 : k0_cond3 i = 1#1), 8 ∣ (k0_mult1365 v2601).toNat := fun i v2601 k0_hw683 k0_h3 => k0_hw683.1 k0_h3
theorem k0_off2749_inb : ∀ (i : grid0.Coords) (v2601 : BitVec 32) (k0_hw683 : k0_chk683 i v2601), ∀ (k0_h3 : k0_cond3 i = 1#1), ∀ a, (k0_off2749 v2601) a + S8x128.size a ≤ S131072x128.size a := fun i v2601 k0_hw683 k0_h3 => k0_hw683.2 k0_h3

def k0_off2750 (i : grid0.Coords) : Fin 3 → Nat :=
  let c0_1569 : Index := 0#32
  let c0_1570 : Index := 0#32
  let arg1 : BitVec 32 := BitVec.ofNat 32 (i 1).val
  let c2_i32_1565 : BitVec 32 := 2#32
  let v2610 : BitVec 32 := Scalar.muli arg1 c2_i32_1565
  let c0_i32_1566 : BitVec 32 := 0#32
  let v2611 : BitVec 32 := Scalar.addi v2610 c0_i32_1566
  let c256_i32_1567 : BitVec 32 := 256#32
  let v2612 : BitVec 32 := Scalar.muli v2611 c256_i32_1567
  let c170_i32 : BitVec 32 := 170#32
  let v2613 : BitVec 32 := Scalar.addi v2612 c170_i32
  let v2615 : Index := Scalar.indexCast v2613
  ![0, 0, v2615.toNat]
def k0_mult1367 (v2616 : BitVec 32) : BitVec 32 :=
  v2616

def k0_mult1368 (i : grid0.Coords) : BitVec 32 :=
  let arg1 : BitVec 32 := BitVec.ofNat 32 (i 1).val
  let c2_i32_1565 : BitVec 32 := 2#32
  let v2610 : BitVec 32 := Scalar.muli arg1 c2_i32_1565
  let c0_i32_1566 : BitVec 32 := 0#32
  let v2611 : BitVec 32 := Scalar.addi v2610 c0_i32_1566
  let c256_i32_1567 : BitVec 32 := 256#32
  let v2612 : BitVec 32 := Scalar.muli v2611 c256_i32_1567
  let c170_i32 : BitVec 32 := 170#32
  let v2613 : BitVec 32 := Scalar.addi v2612 c170_i32
  let c8_i32_1571 : BitVec 32 := 8#32
  let v2618 : BitVec 32 := Scalar.muli v2613 c8_i32_1571
  v2618
def k0_off2751 (i : grid0.Coords) : Fin 1 → Nat :=
  let c1_i32_1568 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2614 : BitVec 32 := Scalar.subi c1_i32_1568 v9
  ![v2614.toNat]
def k0_off2752 (i : grid0.Coords) : Fin 3 → Nat :=
  let c1_i32_1568 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2614 : BitVec 32 := Scalar.subi c1_i32_1568 v9
  let arg1 : BitVec 32 := BitVec.ofNat 32 (i 1).val
  let c2_i32_1565 : BitVec 32 := 2#32
  let v2610 : BitVec 32 := Scalar.muli arg1 c2_i32_1565
  let c0_i32_1566 : BitVec 32 := 0#32
  let v2611 : BitVec 32 := Scalar.addi v2610 c0_i32_1566
  let c256_i32_1567 : BitVec 32 := 256#32
  let v2612 : BitVec 32 := Scalar.muli v2611 c256_i32_1567
  let c170_i32 : BitVec 32 := 170#32
  let v2613 : BitVec 32 := Scalar.addi v2612 c170_i32
  let c8_i32_1571 : BitVec 32 := 8#32
  let v2618 : BitVec 32 := Scalar.muli v2613 c8_i32_1571
  let v2619 : BitVec 32 := v2618
  let c0_i32_1572 : BitVec 32 := 0#32
  ![v2614.toNat, v2619.toNat, 0]
def k0_off2753 (v2616 : BitVec 32) : Fin 2 → Nat :=
  let v2617 : BitVec 32 := v2616
  let c0_i32_1573 : BitVec 32 := 0#32
  ![v2617.toNat, 0]

def k0_chk684 (i : grid0.Coords) (v2616 : BitVec 32) : Prop :=
  (∀ (k0_h3 : k0_cond3 i = 1#1), 8 ∣ (k0_mult1367 v2616).toNat) ∧
  (∀ (k0_h3 : k0_cond3 i = 1#1), ∀ a, (k0_off2753 v2616) a + S8x128.size a ≤ S131072x128.size a)
theorem k0_mult1367_dvd : ∀ (i : grid0.Coords) (v2616 : BitVec 32) (k0_hw684 : k0_chk684 i v2616), ∀ (k0_h3 : k0_cond3 i = 1#1), 8 ∣ (k0_mult1367 v2616).toNat := fun i v2616 k0_hw684 k0_h3 => k0_hw684.1 k0_h3
theorem k0_off2753_inb : ∀ (i : grid0.Coords) (v2616 : BitVec 32) (k0_hw684 : k0_chk684 i v2616), ∀ (k0_h3 : k0_cond3 i = 1#1), ∀ a, (k0_off2753 v2616) a + S8x128.size a ≤ S131072x128.size a := fun i v2616 k0_hw684 k0_h3 => k0_hw684.2 k0_h3

def k0_off2754 (i : grid0.Coords) : Fin 3 → Nat :=
  let c0_1578 : Index := 0#32
  let c0_1579 : Index := 0#32
  let arg1 : BitVec 32 := BitVec.ofNat 32 (i 1).val
  let c2_i32_1574 : BitVec 32 := 2#32
  let v2625 : BitVec 32 := Scalar.muli arg1 c2_i32_1574
  let c0_i32_1575 : BitVec 32 := 0#32
  let v2626 : BitVec 32 := Scalar.addi v2625 c0_i32_1575
  let c256_i32_1576 : BitVec 32 := 256#32
  let v2627 : BitVec 32 := Scalar.muli v2626 c256_i32_1576
  let c171_i32 : BitVec 32 := 171#32
  let v2628 : BitVec 32 := Scalar.addi v2627 c171_i32
  let v2630 : Index := Scalar.indexCast v2628
  ![0, 0, v2630.toNat]
def k0_mult1369 (v2631 : BitVec 32) : BitVec 32 :=
  v2631

def k0_mult1370 (i : grid0.Coords) : BitVec 32 :=
  let arg1 : BitVec 32 := BitVec.ofNat 32 (i 1).val
  let c2_i32_1574 : BitVec 32 := 2#32
  let v2625 : BitVec 32 := Scalar.muli arg1 c2_i32_1574
  let c0_i32_1575 : BitVec 32 := 0#32
  let v2626 : BitVec 32 := Scalar.addi v2625 c0_i32_1575
  let c256_i32_1576 : BitVec 32 := 256#32
  let v2627 : BitVec 32 := Scalar.muli v2626 c256_i32_1576
  let c171_i32 : BitVec 32 := 171#32
  let v2628 : BitVec 32 := Scalar.addi v2627 c171_i32
  let c8_i32_1580 : BitVec 32 := 8#32
  let v2633 : BitVec 32 := Scalar.muli v2628 c8_i32_1580
  v2633
def k0_off2755 (i : grid0.Coords) : Fin 1 → Nat :=
  let c1_i32_1577 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2629 : BitVec 32 := Scalar.subi c1_i32_1577 v9
  ![v2629.toNat]
def k0_off2756 (i : grid0.Coords) : Fin 3 → Nat :=
  let c1_i32_1577 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2629 : BitVec 32 := Scalar.subi c1_i32_1577 v9
  let arg1 : BitVec 32 := BitVec.ofNat 32 (i 1).val
  let c2_i32_1574 : BitVec 32 := 2#32
  let v2625 : BitVec 32 := Scalar.muli arg1 c2_i32_1574
  let c0_i32_1575 : BitVec 32 := 0#32
  let v2626 : BitVec 32 := Scalar.addi v2625 c0_i32_1575
  let c256_i32_1576 : BitVec 32 := 256#32
  let v2627 : BitVec 32 := Scalar.muli v2626 c256_i32_1576
  let c171_i32 : BitVec 32 := 171#32
  let v2628 : BitVec 32 := Scalar.addi v2627 c171_i32
  let c8_i32_1580 : BitVec 32 := 8#32
  let v2633 : BitVec 32 := Scalar.muli v2628 c8_i32_1580
  let v2634 : BitVec 32 := v2633
  let c0_i32_1581 : BitVec 32 := 0#32
  ![v2629.toNat, v2634.toNat, 0]
def k0_off2757 (v2631 : BitVec 32) : Fin 2 → Nat :=
  let v2632 : BitVec 32 := v2631
  let c0_i32_1582 : BitVec 32 := 0#32
  ![v2632.toNat, 0]

def k0_chk685 (i : grid0.Coords) (v2631 : BitVec 32) : Prop :=
  (∀ (k0_h3 : k0_cond3 i = 1#1), 8 ∣ (k0_mult1369 v2631).toNat) ∧
  (∀ (k0_h3 : k0_cond3 i = 1#1), ∀ a, (k0_off2757 v2631) a + S8x128.size a ≤ S131072x128.size a)
theorem k0_mult1369_dvd : ∀ (i : grid0.Coords) (v2631 : BitVec 32) (k0_hw685 : k0_chk685 i v2631), ∀ (k0_h3 : k0_cond3 i = 1#1), 8 ∣ (k0_mult1369 v2631).toNat := fun i v2631 k0_hw685 k0_h3 => k0_hw685.1 k0_h3
theorem k0_off2757_inb : ∀ (i : grid0.Coords) (v2631 : BitVec 32) (k0_hw685 : k0_chk685 i v2631), ∀ (k0_h3 : k0_cond3 i = 1#1), ∀ a, (k0_off2757 v2631) a + S8x128.size a ≤ S131072x128.size a := fun i v2631 k0_hw685 k0_h3 => k0_hw685.2 k0_h3

def k0_off2758 (i : grid0.Coords) : Fin 3 → Nat :=
  let c0_1587 : Index := 0#32
  let c0_1588 : Index := 0#32
  let arg1 : BitVec 32 := BitVec.ofNat 32 (i 1).val
  let c2_i32_1583 : BitVec 32 := 2#32
  let v2640 : BitVec 32 := Scalar.muli arg1 c2_i32_1583
  let c0_i32_1584 : BitVec 32 := 0#32
  let v2641 : BitVec 32 := Scalar.addi v2640 c0_i32_1584
  let c256_i32_1585 : BitVec 32 := 256#32
  let v2642 : BitVec 32 := Scalar.muli v2641 c256_i32_1585
  let c172_i32 : BitVec 32 := 172#32
  let v2643 : BitVec 32 := Scalar.addi v2642 c172_i32
  let v2645 : Index := Scalar.indexCast v2643
  ![0, 0, v2645.toNat]
def k0_mult1371 (v2646 : BitVec 32) : BitVec 32 :=
  v2646

def k0_mult1372 (i : grid0.Coords) : BitVec 32 :=
  let arg1 : BitVec 32 := BitVec.ofNat 32 (i 1).val
  let c2_i32_1583 : BitVec 32 := 2#32
  let v2640 : BitVec 32 := Scalar.muli arg1 c2_i32_1583
  let c0_i32_1584 : BitVec 32 := 0#32
  let v2641 : BitVec 32 := Scalar.addi v2640 c0_i32_1584
  let c256_i32_1585 : BitVec 32 := 256#32
  let v2642 : BitVec 32 := Scalar.muli v2641 c256_i32_1585
  let c172_i32 : BitVec 32 := 172#32
  let v2643 : BitVec 32 := Scalar.addi v2642 c172_i32
  let c8_i32_1589 : BitVec 32 := 8#32
  let v2648 : BitVec 32 := Scalar.muli v2643 c8_i32_1589
  v2648
def k0_off2759 (i : grid0.Coords) : Fin 1 → Nat :=
  let c1_i32_1586 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2644 : BitVec 32 := Scalar.subi c1_i32_1586 v9
  ![v2644.toNat]
def k0_off2760 (i : grid0.Coords) : Fin 3 → Nat :=
  let c1_i32_1586 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2644 : BitVec 32 := Scalar.subi c1_i32_1586 v9
  let arg1 : BitVec 32 := BitVec.ofNat 32 (i 1).val
  let c2_i32_1583 : BitVec 32 := 2#32
  let v2640 : BitVec 32 := Scalar.muli arg1 c2_i32_1583
  let c0_i32_1584 : BitVec 32 := 0#32
  let v2641 : BitVec 32 := Scalar.addi v2640 c0_i32_1584
  let c256_i32_1585 : BitVec 32 := 256#32
  let v2642 : BitVec 32 := Scalar.muli v2641 c256_i32_1585
  let c172_i32 : BitVec 32 := 172#32
  let v2643 : BitVec 32 := Scalar.addi v2642 c172_i32
  let c8_i32_1589 : BitVec 32 := 8#32
  let v2648 : BitVec 32 := Scalar.muli v2643 c8_i32_1589
  let v2649 : BitVec 32 := v2648
  let c0_i32_1590 : BitVec 32 := 0#32
  ![v2644.toNat, v2649.toNat, 0]
def k0_off2761 (v2646 : BitVec 32) : Fin 2 → Nat :=
  let v2647 : BitVec 32 := v2646
  let c0_i32_1591 : BitVec 32 := 0#32
  ![v2647.toNat, 0]

def k0_chk686 (i : grid0.Coords) (v2646 : BitVec 32) : Prop :=
  (∀ (k0_h3 : k0_cond3 i = 1#1), 8 ∣ (k0_mult1371 v2646).toNat) ∧
  (∀ (k0_h3 : k0_cond3 i = 1#1), ∀ a, (k0_off2761 v2646) a + S8x128.size a ≤ S131072x128.size a)
theorem k0_mult1371_dvd : ∀ (i : grid0.Coords) (v2646 : BitVec 32) (k0_hw686 : k0_chk686 i v2646), ∀ (k0_h3 : k0_cond3 i = 1#1), 8 ∣ (k0_mult1371 v2646).toNat := fun i v2646 k0_hw686 k0_h3 => k0_hw686.1 k0_h3
theorem k0_off2761_inb : ∀ (i : grid0.Coords) (v2646 : BitVec 32) (k0_hw686 : k0_chk686 i v2646), ∀ (k0_h3 : k0_cond3 i = 1#1), ∀ a, (k0_off2761 v2646) a + S8x128.size a ≤ S131072x128.size a := fun i v2646 k0_hw686 k0_h3 => k0_hw686.2 k0_h3

def k0_off2762 (i : grid0.Coords) : Fin 3 → Nat :=
  let c0_1596 : Index := 0#32
  let c0_1597 : Index := 0#32
  let arg1 : BitVec 32 := BitVec.ofNat 32 (i 1).val
  let c2_i32_1592 : BitVec 32 := 2#32
  let v2655 : BitVec 32 := Scalar.muli arg1 c2_i32_1592
  let c0_i32_1593 : BitVec 32 := 0#32
  let v2656 : BitVec 32 := Scalar.addi v2655 c0_i32_1593
  let c256_i32_1594 : BitVec 32 := 256#32
  let v2657 : BitVec 32 := Scalar.muli v2656 c256_i32_1594
  let c173_i32 : BitVec 32 := 173#32
  let v2658 : BitVec 32 := Scalar.addi v2657 c173_i32
  let v2660 : Index := Scalar.indexCast v2658
  ![0, 0, v2660.toNat]
def k0_mult1373 (v2661 : BitVec 32) : BitVec 32 :=
  v2661

def k0_mult1374 (i : grid0.Coords) : BitVec 32 :=
  let arg1 : BitVec 32 := BitVec.ofNat 32 (i 1).val
  let c2_i32_1592 : BitVec 32 := 2#32
  let v2655 : BitVec 32 := Scalar.muli arg1 c2_i32_1592
  let c0_i32_1593 : BitVec 32 := 0#32
  let v2656 : BitVec 32 := Scalar.addi v2655 c0_i32_1593
  let c256_i32_1594 : BitVec 32 := 256#32
  let v2657 : BitVec 32 := Scalar.muli v2656 c256_i32_1594
  let c173_i32 : BitVec 32 := 173#32
  let v2658 : BitVec 32 := Scalar.addi v2657 c173_i32
  let c8_i32_1598 : BitVec 32 := 8#32
  let v2663 : BitVec 32 := Scalar.muli v2658 c8_i32_1598
  v2663
def k0_off2763 (i : grid0.Coords) : Fin 1 → Nat :=
  let c1_i32_1595 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2659 : BitVec 32 := Scalar.subi c1_i32_1595 v9
  ![v2659.toNat]
def k0_off2764 (i : grid0.Coords) : Fin 3 → Nat :=
  let c1_i32_1595 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2659 : BitVec 32 := Scalar.subi c1_i32_1595 v9
  let arg1 : BitVec 32 := BitVec.ofNat 32 (i 1).val
  let c2_i32_1592 : BitVec 32 := 2#32
  let v2655 : BitVec 32 := Scalar.muli arg1 c2_i32_1592
  let c0_i32_1593 : BitVec 32 := 0#32
  let v2656 : BitVec 32 := Scalar.addi v2655 c0_i32_1593
  let c256_i32_1594 : BitVec 32 := 256#32
  let v2657 : BitVec 32 := Scalar.muli v2656 c256_i32_1594
  let c173_i32 : BitVec 32 := 173#32
  let v2658 : BitVec 32 := Scalar.addi v2657 c173_i32
  let c8_i32_1598 : BitVec 32 := 8#32
  let v2663 : BitVec 32 := Scalar.muli v2658 c8_i32_1598
  let v2664 : BitVec 32 := v2663
  let c0_i32_1599 : BitVec 32 := 0#32
  ![v2659.toNat, v2664.toNat, 0]
def k0_off2765 (v2661 : BitVec 32) : Fin 2 → Nat :=
  let v2662 : BitVec 32 := v2661
  let c0_i32_1600 : BitVec 32 := 0#32
  ![v2662.toNat, 0]

def k0_chk687 (i : grid0.Coords) (v2661 : BitVec 32) : Prop :=
  (∀ (k0_h3 : k0_cond3 i = 1#1), 8 ∣ (k0_mult1373 v2661).toNat) ∧
  (∀ (k0_h3 : k0_cond3 i = 1#1), ∀ a, (k0_off2765 v2661) a + S8x128.size a ≤ S131072x128.size a)
theorem k0_mult1373_dvd : ∀ (i : grid0.Coords) (v2661 : BitVec 32) (k0_hw687 : k0_chk687 i v2661), ∀ (k0_h3 : k0_cond3 i = 1#1), 8 ∣ (k0_mult1373 v2661).toNat := fun i v2661 k0_hw687 k0_h3 => k0_hw687.1 k0_h3
theorem k0_off2765_inb : ∀ (i : grid0.Coords) (v2661 : BitVec 32) (k0_hw687 : k0_chk687 i v2661), ∀ (k0_h3 : k0_cond3 i = 1#1), ∀ a, (k0_off2765 v2661) a + S8x128.size a ≤ S131072x128.size a := fun i v2661 k0_hw687 k0_h3 => k0_hw687.2 k0_h3

def k0_off2766 (i : grid0.Coords) : Fin 3 → Nat :=
  let c0_1605 : Index := 0#32
  let c0_1606 : Index := 0#32
  let arg1 : BitVec 32 := BitVec.ofNat 32 (i 1).val
  let c2_i32_1601 : BitVec 32 := 2#32
  let v2670 : BitVec 32 := Scalar.muli arg1 c2_i32_1601
  let c0_i32_1602 : BitVec 32 := 0#32
  let v2671 : BitVec 32 := Scalar.addi v2670 c0_i32_1602
  let c256_i32_1603 : BitVec 32 := 256#32
  let v2672 : BitVec 32 := Scalar.muli v2671 c256_i32_1603
  let c174_i32 : BitVec 32 := 174#32
  let v2673 : BitVec 32 := Scalar.addi v2672 c174_i32
  let v2675 : Index := Scalar.indexCast v2673
  ![0, 0, v2675.toNat]
def k0_mult1375 (v2676 : BitVec 32) : BitVec 32 :=
  v2676

def k0_mult1376 (i : grid0.Coords) : BitVec 32 :=
  let arg1 : BitVec 32 := BitVec.ofNat 32 (i 1).val
  let c2_i32_1601 : BitVec 32 := 2#32
  let v2670 : BitVec 32 := Scalar.muli arg1 c2_i32_1601
  let c0_i32_1602 : BitVec 32 := 0#32
  let v2671 : BitVec 32 := Scalar.addi v2670 c0_i32_1602
  let c256_i32_1603 : BitVec 32 := 256#32
  let v2672 : BitVec 32 := Scalar.muli v2671 c256_i32_1603
  let c174_i32 : BitVec 32 := 174#32
  let v2673 : BitVec 32 := Scalar.addi v2672 c174_i32
  let c8_i32_1607 : BitVec 32 := 8#32
  let v2678 : BitVec 32 := Scalar.muli v2673 c8_i32_1607
  v2678
def k0_off2767 (i : grid0.Coords) : Fin 1 → Nat :=
  let c1_i32_1604 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2674 : BitVec 32 := Scalar.subi c1_i32_1604 v9
  ![v2674.toNat]
def k0_off2768 (i : grid0.Coords) : Fin 3 → Nat :=
  let c1_i32_1604 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2674 : BitVec 32 := Scalar.subi c1_i32_1604 v9
  let arg1 : BitVec 32 := BitVec.ofNat 32 (i 1).val
  let c2_i32_1601 : BitVec 32 := 2#32
  let v2670 : BitVec 32 := Scalar.muli arg1 c2_i32_1601
  let c0_i32_1602 : BitVec 32 := 0#32
  let v2671 : BitVec 32 := Scalar.addi v2670 c0_i32_1602
  let c256_i32_1603 : BitVec 32 := 256#32
  let v2672 : BitVec 32 := Scalar.muli v2671 c256_i32_1603
  let c174_i32 : BitVec 32 := 174#32
  let v2673 : BitVec 32 := Scalar.addi v2672 c174_i32
  let c8_i32_1607 : BitVec 32 := 8#32
  let v2678 : BitVec 32 := Scalar.muli v2673 c8_i32_1607
  let v2679 : BitVec 32 := v2678
  let c0_i32_1608 : BitVec 32 := 0#32
  ![v2674.toNat, v2679.toNat, 0]
def k0_off2769 (v2676 : BitVec 32) : Fin 2 → Nat :=
  let v2677 : BitVec 32 := v2676
  let c0_i32_1609 : BitVec 32 := 0#32
  ![v2677.toNat, 0]

def k0_chk688 (i : grid0.Coords) (v2676 : BitVec 32) : Prop :=
  (∀ (k0_h3 : k0_cond3 i = 1#1), 8 ∣ (k0_mult1375 v2676).toNat) ∧
  (∀ (k0_h3 : k0_cond3 i = 1#1), ∀ a, (k0_off2769 v2676) a + S8x128.size a ≤ S131072x128.size a)
theorem k0_mult1375_dvd : ∀ (i : grid0.Coords) (v2676 : BitVec 32) (k0_hw688 : k0_chk688 i v2676), ∀ (k0_h3 : k0_cond3 i = 1#1), 8 ∣ (k0_mult1375 v2676).toNat := fun i v2676 k0_hw688 k0_h3 => k0_hw688.1 k0_h3
theorem k0_off2769_inb : ∀ (i : grid0.Coords) (v2676 : BitVec 32) (k0_hw688 : k0_chk688 i v2676), ∀ (k0_h3 : k0_cond3 i = 1#1), ∀ a, (k0_off2769 v2676) a + S8x128.size a ≤ S131072x128.size a := fun i v2676 k0_hw688 k0_h3 => k0_hw688.2 k0_h3

def k0_off2770 (i : grid0.Coords) : Fin 3 → Nat :=
  let c0_1614 : Index := 0#32
  let c0_1615 : Index := 0#32
  let arg1 : BitVec 32 := BitVec.ofNat 32 (i 1).val
  let c2_i32_1610 : BitVec 32 := 2#32
  let v2685 : BitVec 32 := Scalar.muli arg1 c2_i32_1610
  let c0_i32_1611 : BitVec 32 := 0#32
  let v2686 : BitVec 32 := Scalar.addi v2685 c0_i32_1611
  let c256_i32_1612 : BitVec 32 := 256#32
  let v2687 : BitVec 32 := Scalar.muli v2686 c256_i32_1612
  let c175_i32 : BitVec 32 := 175#32
  let v2688 : BitVec 32 := Scalar.addi v2687 c175_i32
  let v2690 : Index := Scalar.indexCast v2688
  ![0, 0, v2690.toNat]
def k0_mult1377 (v2691 : BitVec 32) : BitVec 32 :=
  v2691

def k0_mult1378 (i : grid0.Coords) : BitVec 32 :=
  let arg1 : BitVec 32 := BitVec.ofNat 32 (i 1).val
  let c2_i32_1610 : BitVec 32 := 2#32
  let v2685 : BitVec 32 := Scalar.muli arg1 c2_i32_1610
  let c0_i32_1611 : BitVec 32 := 0#32
  let v2686 : BitVec 32 := Scalar.addi v2685 c0_i32_1611
  let c256_i32_1612 : BitVec 32 := 256#32
  let v2687 : BitVec 32 := Scalar.muli v2686 c256_i32_1612
  let c175_i32 : BitVec 32 := 175#32
  let v2688 : BitVec 32 := Scalar.addi v2687 c175_i32
  let c8_i32_1616 : BitVec 32 := 8#32
  let v2693 : BitVec 32 := Scalar.muli v2688 c8_i32_1616
  v2693
def k0_off2771 (i : grid0.Coords) : Fin 1 → Nat :=
  let c1_i32_1613 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2689 : BitVec 32 := Scalar.subi c1_i32_1613 v9
  ![v2689.toNat]
def k0_off2772 (i : grid0.Coords) : Fin 3 → Nat :=
  let c1_i32_1613 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2689 : BitVec 32 := Scalar.subi c1_i32_1613 v9
  let arg1 : BitVec 32 := BitVec.ofNat 32 (i 1).val
  let c2_i32_1610 : BitVec 32 := 2#32
  let v2685 : BitVec 32 := Scalar.muli arg1 c2_i32_1610
  let c0_i32_1611 : BitVec 32 := 0#32
  let v2686 : BitVec 32 := Scalar.addi v2685 c0_i32_1611
  let c256_i32_1612 : BitVec 32 := 256#32
  let v2687 : BitVec 32 := Scalar.muli v2686 c256_i32_1612
  let c175_i32 : BitVec 32 := 175#32
  let v2688 : BitVec 32 := Scalar.addi v2687 c175_i32
  let c8_i32_1616 : BitVec 32 := 8#32
  let v2693 : BitVec 32 := Scalar.muli v2688 c8_i32_1616
  let v2694 : BitVec 32 := v2693
  let c0_i32_1617 : BitVec 32 := 0#32
  ![v2689.toNat, v2694.toNat, 0]
def k0_off2773 (v2691 : BitVec 32) : Fin 2 → Nat :=
  let v2692 : BitVec 32 := v2691
  let c0_i32_1618 : BitVec 32 := 0#32
  ![v2692.toNat, 0]

def k0_chk689 (i : grid0.Coords) (v2691 : BitVec 32) : Prop :=
  (∀ (k0_h3 : k0_cond3 i = 1#1), 8 ∣ (k0_mult1377 v2691).toNat) ∧
  (∀ (k0_h3 : k0_cond3 i = 1#1), ∀ a, (k0_off2773 v2691) a + S8x128.size a ≤ S131072x128.size a)
theorem k0_mult1377_dvd : ∀ (i : grid0.Coords) (v2691 : BitVec 32) (k0_hw689 : k0_chk689 i v2691), ∀ (k0_h3 : k0_cond3 i = 1#1), 8 ∣ (k0_mult1377 v2691).toNat := fun i v2691 k0_hw689 k0_h3 => k0_hw689.1 k0_h3
theorem k0_off2773_inb : ∀ (i : grid0.Coords) (v2691 : BitVec 32) (k0_hw689 : k0_chk689 i v2691), ∀ (k0_h3 : k0_cond3 i = 1#1), ∀ a, (k0_off2773 v2691) a + S8x128.size a ≤ S131072x128.size a := fun i v2691 k0_hw689 k0_h3 => k0_hw689.2 k0_h3

def k0_off2774 (i : grid0.Coords) : Fin 3 → Nat :=
  let c0_1623 : Index := 0#32
  let c0_1624 : Index := 0#32
  let arg1 : BitVec 32 := BitVec.ofNat 32 (i 1).val
  let c2_i32_1619 : BitVec 32 := 2#32
  let v2700 : BitVec 32 := Scalar.muli arg1 c2_i32_1619
  let c0_i32_1620 : BitVec 32 := 0#32
  let v2701 : BitVec 32 := Scalar.addi v2700 c0_i32_1620
  let c256_i32_1621 : BitVec 32 := 256#32
  let v2702 : BitVec 32 := Scalar.muli v2701 c256_i32_1621
  let c176_i32 : BitVec 32 := 176#32
  let v2703 : BitVec 32 := Scalar.addi v2702 c176_i32
  let v2705 : Index := Scalar.indexCast v2703
  ![0, 0, v2705.toNat]
def k0_mult1379 (v2706 : BitVec 32) : BitVec 32 :=
  v2706

def k0_mult1380 (i : grid0.Coords) : BitVec 32 :=
  let arg1 : BitVec 32 := BitVec.ofNat 32 (i 1).val
  let c2_i32_1619 : BitVec 32 := 2#32
  let v2700 : BitVec 32 := Scalar.muli arg1 c2_i32_1619
  let c0_i32_1620 : BitVec 32 := 0#32
  let v2701 : BitVec 32 := Scalar.addi v2700 c0_i32_1620
  let c256_i32_1621 : BitVec 32 := 256#32
  let v2702 : BitVec 32 := Scalar.muli v2701 c256_i32_1621
  let c176_i32 : BitVec 32 := 176#32
  let v2703 : BitVec 32 := Scalar.addi v2702 c176_i32
  let c8_i32_1625 : BitVec 32 := 8#32
  let v2708 : BitVec 32 := Scalar.muli v2703 c8_i32_1625
  v2708
def k0_off2775 (i : grid0.Coords) : Fin 1 → Nat :=
  let c1_i32_1622 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2704 : BitVec 32 := Scalar.subi c1_i32_1622 v9
  ![v2704.toNat]
def k0_off2776 (i : grid0.Coords) : Fin 3 → Nat :=
  let c1_i32_1622 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2704 : BitVec 32 := Scalar.subi c1_i32_1622 v9
  let arg1 : BitVec 32 := BitVec.ofNat 32 (i 1).val
  let c2_i32_1619 : BitVec 32 := 2#32
  let v2700 : BitVec 32 := Scalar.muli arg1 c2_i32_1619
  let c0_i32_1620 : BitVec 32 := 0#32
  let v2701 : BitVec 32 := Scalar.addi v2700 c0_i32_1620
  let c256_i32_1621 : BitVec 32 := 256#32
  let v2702 : BitVec 32 := Scalar.muli v2701 c256_i32_1621
  let c176_i32 : BitVec 32 := 176#32
  let v2703 : BitVec 32 := Scalar.addi v2702 c176_i32
  let c8_i32_1625 : BitVec 32 := 8#32
  let v2708 : BitVec 32 := Scalar.muli v2703 c8_i32_1625
  let v2709 : BitVec 32 := v2708
  let c0_i32_1626 : BitVec 32 := 0#32
  ![v2704.toNat, v2709.toNat, 0]
def k0_off2777 (v2706 : BitVec 32) : Fin 2 → Nat :=
  let v2707 : BitVec 32 := v2706
  let c0_i32_1627 : BitVec 32 := 0#32
  ![v2707.toNat, 0]

def k0_chk690 (i : grid0.Coords) (v2706 : BitVec 32) : Prop :=
  (∀ (k0_h3 : k0_cond3 i = 1#1), 8 ∣ (k0_mult1379 v2706).toNat) ∧
  (∀ (k0_h3 : k0_cond3 i = 1#1), ∀ a, (k0_off2777 v2706) a + S8x128.size a ≤ S131072x128.size a)
theorem k0_mult1379_dvd : ∀ (i : grid0.Coords) (v2706 : BitVec 32) (k0_hw690 : k0_chk690 i v2706), ∀ (k0_h3 : k0_cond3 i = 1#1), 8 ∣ (k0_mult1379 v2706).toNat := fun i v2706 k0_hw690 k0_h3 => k0_hw690.1 k0_h3
theorem k0_off2777_inb : ∀ (i : grid0.Coords) (v2706 : BitVec 32) (k0_hw690 : k0_chk690 i v2706), ∀ (k0_h3 : k0_cond3 i = 1#1), ∀ a, (k0_off2777 v2706) a + S8x128.size a ≤ S131072x128.size a := fun i v2706 k0_hw690 k0_h3 => k0_hw690.2 k0_h3

def k0_off2778 (i : grid0.Coords) : Fin 3 → Nat :=
  let c0_1632 : Index := 0#32
  let c0_1633 : Index := 0#32
  let arg1 : BitVec 32 := BitVec.ofNat 32 (i 1).val
  let c2_i32_1628 : BitVec 32 := 2#32
  let v2715 : BitVec 32 := Scalar.muli arg1 c2_i32_1628
  let c0_i32_1629 : BitVec 32 := 0#32
  let v2716 : BitVec 32 := Scalar.addi v2715 c0_i32_1629
  let c256_i32_1630 : BitVec 32 := 256#32
  let v2717 : BitVec 32 := Scalar.muli v2716 c256_i32_1630
  let c177_i32 : BitVec 32 := 177#32
  let v2718 : BitVec 32 := Scalar.addi v2717 c177_i32
  let v2720 : Index := Scalar.indexCast v2718
  ![0, 0, v2720.toNat]
def k0_mult1381 (v2721 : BitVec 32) : BitVec 32 :=
  v2721

def k0_mult1382 (i : grid0.Coords) : BitVec 32 :=
  let arg1 : BitVec 32 := BitVec.ofNat 32 (i 1).val
  let c2_i32_1628 : BitVec 32 := 2#32
  let v2715 : BitVec 32 := Scalar.muli arg1 c2_i32_1628
  let c0_i32_1629 : BitVec 32 := 0#32
  let v2716 : BitVec 32 := Scalar.addi v2715 c0_i32_1629
  let c256_i32_1630 : BitVec 32 := 256#32
  let v2717 : BitVec 32 := Scalar.muli v2716 c256_i32_1630
  let c177_i32 : BitVec 32 := 177#32
  let v2718 : BitVec 32 := Scalar.addi v2717 c177_i32
  let c8_i32_1634 : BitVec 32 := 8#32
  let v2723 : BitVec 32 := Scalar.muli v2718 c8_i32_1634
  v2723
def k0_off2779 (i : grid0.Coords) : Fin 1 → Nat :=
  let c1_i32_1631 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2719 : BitVec 32 := Scalar.subi c1_i32_1631 v9
  ![v2719.toNat]
def k0_off2780 (i : grid0.Coords) : Fin 3 → Nat :=
  let c1_i32_1631 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2719 : BitVec 32 := Scalar.subi c1_i32_1631 v9
  let arg1 : BitVec 32 := BitVec.ofNat 32 (i 1).val
  let c2_i32_1628 : BitVec 32 := 2#32
  let v2715 : BitVec 32 := Scalar.muli arg1 c2_i32_1628
  let c0_i32_1629 : BitVec 32 := 0#32
  let v2716 : BitVec 32 := Scalar.addi v2715 c0_i32_1629
  let c256_i32_1630 : BitVec 32 := 256#32
  let v2717 : BitVec 32 := Scalar.muli v2716 c256_i32_1630
  let c177_i32 : BitVec 32 := 177#32
  let v2718 : BitVec 32 := Scalar.addi v2717 c177_i32
  let c8_i32_1634 : BitVec 32 := 8#32
  let v2723 : BitVec 32 := Scalar.muli v2718 c8_i32_1634
  let v2724 : BitVec 32 := v2723
  let c0_i32_1635 : BitVec 32 := 0#32
  ![v2719.toNat, v2724.toNat, 0]
def k0_off2781 (v2721 : BitVec 32) : Fin 2 → Nat :=
  let v2722 : BitVec 32 := v2721
  let c0_i32_1636 : BitVec 32 := 0#32
  ![v2722.toNat, 0]

def k0_chk691 (i : grid0.Coords) (v2721 : BitVec 32) : Prop :=
  (∀ (k0_h3 : k0_cond3 i = 1#1), 8 ∣ (k0_mult1381 v2721).toNat) ∧
  (∀ (k0_h3 : k0_cond3 i = 1#1), ∀ a, (k0_off2781 v2721) a + S8x128.size a ≤ S131072x128.size a)
theorem k0_mult1381_dvd : ∀ (i : grid0.Coords) (v2721 : BitVec 32) (k0_hw691 : k0_chk691 i v2721), ∀ (k0_h3 : k0_cond3 i = 1#1), 8 ∣ (k0_mult1381 v2721).toNat := fun i v2721 k0_hw691 k0_h3 => k0_hw691.1 k0_h3
theorem k0_off2781_inb : ∀ (i : grid0.Coords) (v2721 : BitVec 32) (k0_hw691 : k0_chk691 i v2721), ∀ (k0_h3 : k0_cond3 i = 1#1), ∀ a, (k0_off2781 v2721) a + S8x128.size a ≤ S131072x128.size a := fun i v2721 k0_hw691 k0_h3 => k0_hw691.2 k0_h3

def k0_off2782 (i : grid0.Coords) : Fin 3 → Nat :=
  let c0_1641 : Index := 0#32
  let c0_1642 : Index := 0#32
  let arg1 : BitVec 32 := BitVec.ofNat 32 (i 1).val
  let c2_i32_1637 : BitVec 32 := 2#32
  let v2730 : BitVec 32 := Scalar.muli arg1 c2_i32_1637
  let c0_i32_1638 : BitVec 32 := 0#32
  let v2731 : BitVec 32 := Scalar.addi v2730 c0_i32_1638
  let c256_i32_1639 : BitVec 32 := 256#32
  let v2732 : BitVec 32 := Scalar.muli v2731 c256_i32_1639
  let c178_i32 : BitVec 32 := 178#32
  let v2733 : BitVec 32 := Scalar.addi v2732 c178_i32
  let v2735 : Index := Scalar.indexCast v2733
  ![0, 0, v2735.toNat]
def k0_mult1383 (v2736 : BitVec 32) : BitVec 32 :=
  v2736

def k0_mult1384 (i : grid0.Coords) : BitVec 32 :=
  let arg1 : BitVec 32 := BitVec.ofNat 32 (i 1).val
  let c2_i32_1637 : BitVec 32 := 2#32
  let v2730 : BitVec 32 := Scalar.muli arg1 c2_i32_1637
  let c0_i32_1638 : BitVec 32 := 0#32
  let v2731 : BitVec 32 := Scalar.addi v2730 c0_i32_1638
  let c256_i32_1639 : BitVec 32 := 256#32
  let v2732 : BitVec 32 := Scalar.muli v2731 c256_i32_1639
  let c178_i32 : BitVec 32 := 178#32
  let v2733 : BitVec 32 := Scalar.addi v2732 c178_i32
  let c8_i32_1643 : BitVec 32 := 8#32
  let v2738 : BitVec 32 := Scalar.muli v2733 c8_i32_1643
  v2738
def k0_off2783 (i : grid0.Coords) : Fin 1 → Nat :=
  let c1_i32_1640 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2734 : BitVec 32 := Scalar.subi c1_i32_1640 v9
  ![v2734.toNat]
def k0_off2784 (i : grid0.Coords) : Fin 3 → Nat :=
  let c1_i32_1640 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2734 : BitVec 32 := Scalar.subi c1_i32_1640 v9
  let arg1 : BitVec 32 := BitVec.ofNat 32 (i 1).val
  let c2_i32_1637 : BitVec 32 := 2#32
  let v2730 : BitVec 32 := Scalar.muli arg1 c2_i32_1637
  let c0_i32_1638 : BitVec 32 := 0#32
  let v2731 : BitVec 32 := Scalar.addi v2730 c0_i32_1638
  let c256_i32_1639 : BitVec 32 := 256#32
  let v2732 : BitVec 32 := Scalar.muli v2731 c256_i32_1639
  let c178_i32 : BitVec 32 := 178#32
  let v2733 : BitVec 32 := Scalar.addi v2732 c178_i32
  let c8_i32_1643 : BitVec 32 := 8#32
  let v2738 : BitVec 32 := Scalar.muli v2733 c8_i32_1643
  let v2739 : BitVec 32 := v2738
  let c0_i32_1644 : BitVec 32 := 0#32
  ![v2734.toNat, v2739.toNat, 0]
def k0_off2785 (v2736 : BitVec 32) : Fin 2 → Nat :=
  let v2737 : BitVec 32 := v2736
  let c0_i32_1645 : BitVec 32 := 0#32
  ![v2737.toNat, 0]

def k0_chk692 (i : grid0.Coords) (v2736 : BitVec 32) : Prop :=
  (∀ (k0_h3 : k0_cond3 i = 1#1), 8 ∣ (k0_mult1383 v2736).toNat) ∧
  (∀ (k0_h3 : k0_cond3 i = 1#1), ∀ a, (k0_off2785 v2736) a + S8x128.size a ≤ S131072x128.size a)
theorem k0_mult1383_dvd : ∀ (i : grid0.Coords) (v2736 : BitVec 32) (k0_hw692 : k0_chk692 i v2736), ∀ (k0_h3 : k0_cond3 i = 1#1), 8 ∣ (k0_mult1383 v2736).toNat := fun i v2736 k0_hw692 k0_h3 => k0_hw692.1 k0_h3
theorem k0_off2785_inb : ∀ (i : grid0.Coords) (v2736 : BitVec 32) (k0_hw692 : k0_chk692 i v2736), ∀ (k0_h3 : k0_cond3 i = 1#1), ∀ a, (k0_off2785 v2736) a + S8x128.size a ≤ S131072x128.size a := fun i v2736 k0_hw692 k0_h3 => k0_hw692.2 k0_h3

def k0_off2786 (i : grid0.Coords) : Fin 3 → Nat :=
  let c0_1650 : Index := 0#32
  let c0_1651 : Index := 0#32
  let arg1 : BitVec 32 := BitVec.ofNat 32 (i 1).val
  let c2_i32_1646 : BitVec 32 := 2#32
  let v2745 : BitVec 32 := Scalar.muli arg1 c2_i32_1646
  let c0_i32_1647 : BitVec 32 := 0#32
  let v2746 : BitVec 32 := Scalar.addi v2745 c0_i32_1647
  let c256_i32_1648 : BitVec 32 := 256#32
  let v2747 : BitVec 32 := Scalar.muli v2746 c256_i32_1648
  let c179_i32 : BitVec 32 := 179#32
  let v2748 : BitVec 32 := Scalar.addi v2747 c179_i32
  let v2750 : Index := Scalar.indexCast v2748
  ![0, 0, v2750.toNat]
def k0_mult1385 (v2751 : BitVec 32) : BitVec 32 :=
  v2751

def k0_mult1386 (i : grid0.Coords) : BitVec 32 :=
  let arg1 : BitVec 32 := BitVec.ofNat 32 (i 1).val
  let c2_i32_1646 : BitVec 32 := 2#32
  let v2745 : BitVec 32 := Scalar.muli arg1 c2_i32_1646
  let c0_i32_1647 : BitVec 32 := 0#32
  let v2746 : BitVec 32 := Scalar.addi v2745 c0_i32_1647
  let c256_i32_1648 : BitVec 32 := 256#32
  let v2747 : BitVec 32 := Scalar.muli v2746 c256_i32_1648
  let c179_i32 : BitVec 32 := 179#32
  let v2748 : BitVec 32 := Scalar.addi v2747 c179_i32
  let c8_i32_1652 : BitVec 32 := 8#32
  let v2753 : BitVec 32 := Scalar.muli v2748 c8_i32_1652
  v2753
def k0_off2787 (i : grid0.Coords) : Fin 1 → Nat :=
  let c1_i32_1649 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2749 : BitVec 32 := Scalar.subi c1_i32_1649 v9
  ![v2749.toNat]
def k0_off2788 (i : grid0.Coords) : Fin 3 → Nat :=
  let c1_i32_1649 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2749 : BitVec 32 := Scalar.subi c1_i32_1649 v9
  let arg1 : BitVec 32 := BitVec.ofNat 32 (i 1).val
  let c2_i32_1646 : BitVec 32 := 2#32
  let v2745 : BitVec 32 := Scalar.muli arg1 c2_i32_1646
  let c0_i32_1647 : BitVec 32 := 0#32
  let v2746 : BitVec 32 := Scalar.addi v2745 c0_i32_1647
  let c256_i32_1648 : BitVec 32 := 256#32
  let v2747 : BitVec 32 := Scalar.muli v2746 c256_i32_1648
  let c179_i32 : BitVec 32 := 179#32
  let v2748 : BitVec 32 := Scalar.addi v2747 c179_i32
  let c8_i32_1652 : BitVec 32 := 8#32
  let v2753 : BitVec 32 := Scalar.muli v2748 c8_i32_1652
  let v2754 : BitVec 32 := v2753
  let c0_i32_1653 : BitVec 32 := 0#32
  ![v2749.toNat, v2754.toNat, 0]
def k0_off2789 (v2751 : BitVec 32) : Fin 2 → Nat :=
  let v2752 : BitVec 32 := v2751
  let c0_i32_1654 : BitVec 32 := 0#32
  ![v2752.toNat, 0]

def k0_chk693 (i : grid0.Coords) (v2751 : BitVec 32) : Prop :=
  (∀ (k0_h3 : k0_cond3 i = 1#1), 8 ∣ (k0_mult1385 v2751).toNat) ∧
  (∀ (k0_h3 : k0_cond3 i = 1#1), ∀ a, (k0_off2789 v2751) a + S8x128.size a ≤ S131072x128.size a)
theorem k0_mult1385_dvd : ∀ (i : grid0.Coords) (v2751 : BitVec 32) (k0_hw693 : k0_chk693 i v2751), ∀ (k0_h3 : k0_cond3 i = 1#1), 8 ∣ (k0_mult1385 v2751).toNat := fun i v2751 k0_hw693 k0_h3 => k0_hw693.1 k0_h3
theorem k0_off2789_inb : ∀ (i : grid0.Coords) (v2751 : BitVec 32) (k0_hw693 : k0_chk693 i v2751), ∀ (k0_h3 : k0_cond3 i = 1#1), ∀ a, (k0_off2789 v2751) a + S8x128.size a ≤ S131072x128.size a := fun i v2751 k0_hw693 k0_h3 => k0_hw693.2 k0_h3

def k0_off2790 (i : grid0.Coords) : Fin 3 → Nat :=
  let c0_1659 : Index := 0#32
  let c0_1660 : Index := 0#32
  let arg1 : BitVec 32 := BitVec.ofNat 32 (i 1).val
  let c2_i32_1655 : BitVec 32 := 2#32
  let v2760 : BitVec 32 := Scalar.muli arg1 c2_i32_1655
  let c0_i32_1656 : BitVec 32 := 0#32
  let v2761 : BitVec 32 := Scalar.addi v2760 c0_i32_1656
  let c256_i32_1657 : BitVec 32 := 256#32
  let v2762 : BitVec 32 := Scalar.muli v2761 c256_i32_1657
  let c180_i32 : BitVec 32 := 180#32
  let v2763 : BitVec 32 := Scalar.addi v2762 c180_i32
  let v2765 : Index := Scalar.indexCast v2763
  ![0, 0, v2765.toNat]
def k0_mult1387 (v2766 : BitVec 32) : BitVec 32 :=
  v2766

def k0_mult1388 (i : grid0.Coords) : BitVec 32 :=
  let arg1 : BitVec 32 := BitVec.ofNat 32 (i 1).val
  let c2_i32_1655 : BitVec 32 := 2#32
  let v2760 : BitVec 32 := Scalar.muli arg1 c2_i32_1655
  let c0_i32_1656 : BitVec 32 := 0#32
  let v2761 : BitVec 32 := Scalar.addi v2760 c0_i32_1656
  let c256_i32_1657 : BitVec 32 := 256#32
  let v2762 : BitVec 32 := Scalar.muli v2761 c256_i32_1657
  let c180_i32 : BitVec 32 := 180#32
  let v2763 : BitVec 32 := Scalar.addi v2762 c180_i32
  let c8_i32_1661 : BitVec 32 := 8#32
  let v2768 : BitVec 32 := Scalar.muli v2763 c8_i32_1661
  v2768
def k0_off2791 (i : grid0.Coords) : Fin 1 → Nat :=
  let c1_i32_1658 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2764 : BitVec 32 := Scalar.subi c1_i32_1658 v9
  ![v2764.toNat]
def k0_off2792 (i : grid0.Coords) : Fin 3 → Nat :=
  let c1_i32_1658 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2764 : BitVec 32 := Scalar.subi c1_i32_1658 v9
  let arg1 : BitVec 32 := BitVec.ofNat 32 (i 1).val
  let c2_i32_1655 : BitVec 32 := 2#32
  let v2760 : BitVec 32 := Scalar.muli arg1 c2_i32_1655
  let c0_i32_1656 : BitVec 32 := 0#32
  let v2761 : BitVec 32 := Scalar.addi v2760 c0_i32_1656
  let c256_i32_1657 : BitVec 32 := 256#32
  let v2762 : BitVec 32 := Scalar.muli v2761 c256_i32_1657
  let c180_i32 : BitVec 32 := 180#32
  let v2763 : BitVec 32 := Scalar.addi v2762 c180_i32
  let c8_i32_1661 : BitVec 32 := 8#32
  let v2768 : BitVec 32 := Scalar.muli v2763 c8_i32_1661
  let v2769 : BitVec 32 := v2768
  let c0_i32_1662 : BitVec 32 := 0#32
  ![v2764.toNat, v2769.toNat, 0]
def k0_off2793 (v2766 : BitVec 32) : Fin 2 → Nat :=
  let v2767 : BitVec 32 := v2766
  let c0_i32_1663 : BitVec 32 := 0#32
  ![v2767.toNat, 0]

def k0_chk694 (i : grid0.Coords) (v2766 : BitVec 32) : Prop :=
  (∀ (k0_h3 : k0_cond3 i = 1#1), 8 ∣ (k0_mult1387 v2766).toNat) ∧
  (∀ (k0_h3 : k0_cond3 i = 1#1), ∀ a, (k0_off2793 v2766) a + S8x128.size a ≤ S131072x128.size a)
theorem k0_mult1387_dvd : ∀ (i : grid0.Coords) (v2766 : BitVec 32) (k0_hw694 : k0_chk694 i v2766), ∀ (k0_h3 : k0_cond3 i = 1#1), 8 ∣ (k0_mult1387 v2766).toNat := fun i v2766 k0_hw694 k0_h3 => k0_hw694.1 k0_h3
theorem k0_off2793_inb : ∀ (i : grid0.Coords) (v2766 : BitVec 32) (k0_hw694 : k0_chk694 i v2766), ∀ (k0_h3 : k0_cond3 i = 1#1), ∀ a, (k0_off2793 v2766) a + S8x128.size a ≤ S131072x128.size a := fun i v2766 k0_hw694 k0_h3 => k0_hw694.2 k0_h3

def k0_off2794 (i : grid0.Coords) : Fin 3 → Nat :=
  let c0_1668 : Index := 0#32
  let c0_1669 : Index := 0#32
  let arg1 : BitVec 32 := BitVec.ofNat 32 (i 1).val
  let c2_i32_1664 : BitVec 32 := 2#32
  let v2775 : BitVec 32 := Scalar.muli arg1 c2_i32_1664
  let c0_i32_1665 : BitVec 32 := 0#32
  let v2776 : BitVec 32 := Scalar.addi v2775 c0_i32_1665
  let c256_i32_1666 : BitVec 32 := 256#32
  let v2777 : BitVec 32 := Scalar.muli v2776 c256_i32_1666
  let c181_i32 : BitVec 32 := 181#32
  let v2778 : BitVec 32 := Scalar.addi v2777 c181_i32
  let v2780 : Index := Scalar.indexCast v2778
  ![0, 0, v2780.toNat]
def k0_mult1389 (v2781 : BitVec 32) : BitVec 32 :=
  v2781

def k0_mult1390 (i : grid0.Coords) : BitVec 32 :=
  let arg1 : BitVec 32 := BitVec.ofNat 32 (i 1).val
  let c2_i32_1664 : BitVec 32 := 2#32
  let v2775 : BitVec 32 := Scalar.muli arg1 c2_i32_1664
  let c0_i32_1665 : BitVec 32 := 0#32
  let v2776 : BitVec 32 := Scalar.addi v2775 c0_i32_1665
  let c256_i32_1666 : BitVec 32 := 256#32
  let v2777 : BitVec 32 := Scalar.muli v2776 c256_i32_1666
  let c181_i32 : BitVec 32 := 181#32
  let v2778 : BitVec 32 := Scalar.addi v2777 c181_i32
  let c8_i32_1670 : BitVec 32 := 8#32
  let v2783 : BitVec 32 := Scalar.muli v2778 c8_i32_1670
  v2783
def k0_off2795 (i : grid0.Coords) : Fin 1 → Nat :=
  let c1_i32_1667 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2779 : BitVec 32 := Scalar.subi c1_i32_1667 v9
  ![v2779.toNat]
def k0_off2796 (i : grid0.Coords) : Fin 3 → Nat :=
  let c1_i32_1667 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2779 : BitVec 32 := Scalar.subi c1_i32_1667 v9
  let arg1 : BitVec 32 := BitVec.ofNat 32 (i 1).val
  let c2_i32_1664 : BitVec 32 := 2#32
  let v2775 : BitVec 32 := Scalar.muli arg1 c2_i32_1664
  let c0_i32_1665 : BitVec 32 := 0#32
  let v2776 : BitVec 32 := Scalar.addi v2775 c0_i32_1665
  let c256_i32_1666 : BitVec 32 := 256#32
  let v2777 : BitVec 32 := Scalar.muli v2776 c256_i32_1666
  let c181_i32 : BitVec 32 := 181#32
  let v2778 : BitVec 32 := Scalar.addi v2777 c181_i32
  let c8_i32_1670 : BitVec 32 := 8#32
  let v2783 : BitVec 32 := Scalar.muli v2778 c8_i32_1670
  let v2784 : BitVec 32 := v2783
  let c0_i32_1671 : BitVec 32 := 0#32
  ![v2779.toNat, v2784.toNat, 0]
def k0_off2797 (v2781 : BitVec 32) : Fin 2 → Nat :=
  let v2782 : BitVec 32 := v2781
  let c0_i32_1672 : BitVec 32 := 0#32
  ![v2782.toNat, 0]

def k0_chk695 (i : grid0.Coords) (v2781 : BitVec 32) : Prop :=
  (∀ (k0_h3 : k0_cond3 i = 1#1), 8 ∣ (k0_mult1389 v2781).toNat) ∧
  (∀ (k0_h3 : k0_cond3 i = 1#1), ∀ a, (k0_off2797 v2781) a + S8x128.size a ≤ S131072x128.size a)
theorem k0_mult1389_dvd : ∀ (i : grid0.Coords) (v2781 : BitVec 32) (k0_hw695 : k0_chk695 i v2781), ∀ (k0_h3 : k0_cond3 i = 1#1), 8 ∣ (k0_mult1389 v2781).toNat := fun i v2781 k0_hw695 k0_h3 => k0_hw695.1 k0_h3
theorem k0_off2797_inb : ∀ (i : grid0.Coords) (v2781 : BitVec 32) (k0_hw695 : k0_chk695 i v2781), ∀ (k0_h3 : k0_cond3 i = 1#1), ∀ a, (k0_off2797 v2781) a + S8x128.size a ≤ S131072x128.size a := fun i v2781 k0_hw695 k0_h3 => k0_hw695.2 k0_h3

def k0_off2798 (i : grid0.Coords) : Fin 3 → Nat :=
  let c0_1677 : Index := 0#32
  let c0_1678 : Index := 0#32
  let arg1 : BitVec 32 := BitVec.ofNat 32 (i 1).val
  let c2_i32_1673 : BitVec 32 := 2#32
  let v2790 : BitVec 32 := Scalar.muli arg1 c2_i32_1673
  let c0_i32_1674 : BitVec 32 := 0#32
  let v2791 : BitVec 32 := Scalar.addi v2790 c0_i32_1674
  let c256_i32_1675 : BitVec 32 := 256#32
  let v2792 : BitVec 32 := Scalar.muli v2791 c256_i32_1675
  let c182_i32 : BitVec 32 := 182#32
  let v2793 : BitVec 32 := Scalar.addi v2792 c182_i32
  let v2795 : Index := Scalar.indexCast v2793
  ![0, 0, v2795.toNat]
def k0_mult1391 (v2796 : BitVec 32) : BitVec 32 :=
  v2796

def k0_mult1392 (i : grid0.Coords) : BitVec 32 :=
  let arg1 : BitVec 32 := BitVec.ofNat 32 (i 1).val
  let c2_i32_1673 : BitVec 32 := 2#32
  let v2790 : BitVec 32 := Scalar.muli arg1 c2_i32_1673
  let c0_i32_1674 : BitVec 32 := 0#32
  let v2791 : BitVec 32 := Scalar.addi v2790 c0_i32_1674
  let c256_i32_1675 : BitVec 32 := 256#32
  let v2792 : BitVec 32 := Scalar.muli v2791 c256_i32_1675
  let c182_i32 : BitVec 32 := 182#32
  let v2793 : BitVec 32 := Scalar.addi v2792 c182_i32
  let c8_i32_1679 : BitVec 32 := 8#32
  let v2798 : BitVec 32 := Scalar.muli v2793 c8_i32_1679
  v2798
def k0_off2799 (i : grid0.Coords) : Fin 1 → Nat :=
  let c1_i32_1676 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2794 : BitVec 32 := Scalar.subi c1_i32_1676 v9
  ![v2794.toNat]
def k0_off2800 (i : grid0.Coords) : Fin 3 → Nat :=
  let c1_i32_1676 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2794 : BitVec 32 := Scalar.subi c1_i32_1676 v9
  let arg1 : BitVec 32 := BitVec.ofNat 32 (i 1).val
  let c2_i32_1673 : BitVec 32 := 2#32
  let v2790 : BitVec 32 := Scalar.muli arg1 c2_i32_1673
  let c0_i32_1674 : BitVec 32 := 0#32
  let v2791 : BitVec 32 := Scalar.addi v2790 c0_i32_1674
  let c256_i32_1675 : BitVec 32 := 256#32
  let v2792 : BitVec 32 := Scalar.muli v2791 c256_i32_1675
  let c182_i32 : BitVec 32 := 182#32
  let v2793 : BitVec 32 := Scalar.addi v2792 c182_i32
  let c8_i32_1679 : BitVec 32 := 8#32
  let v2798 : BitVec 32 := Scalar.muli v2793 c8_i32_1679
  let v2799 : BitVec 32 := v2798
  let c0_i32_1680 : BitVec 32 := 0#32
  ![v2794.toNat, v2799.toNat, 0]
def k0_off2801 (v2796 : BitVec 32) : Fin 2 → Nat :=
  let v2797 : BitVec 32 := v2796
  let c0_i32_1681 : BitVec 32 := 0#32
  ![v2797.toNat, 0]

def k0_chk696 (i : grid0.Coords) (v2796 : BitVec 32) : Prop :=
  (∀ (k0_h3 : k0_cond3 i = 1#1), 8 ∣ (k0_mult1391 v2796).toNat) ∧
  (∀ (k0_h3 : k0_cond3 i = 1#1), ∀ a, (k0_off2801 v2796) a + S8x128.size a ≤ S131072x128.size a)
theorem k0_mult1391_dvd : ∀ (i : grid0.Coords) (v2796 : BitVec 32) (k0_hw696 : k0_chk696 i v2796), ∀ (k0_h3 : k0_cond3 i = 1#1), 8 ∣ (k0_mult1391 v2796).toNat := fun i v2796 k0_hw696 k0_h3 => k0_hw696.1 k0_h3
theorem k0_off2801_inb : ∀ (i : grid0.Coords) (v2796 : BitVec 32) (k0_hw696 : k0_chk696 i v2796), ∀ (k0_h3 : k0_cond3 i = 1#1), ∀ a, (k0_off2801 v2796) a + S8x128.size a ≤ S131072x128.size a := fun i v2796 k0_hw696 k0_h3 => k0_hw696.2 k0_h3

def k0_off2802 (i : grid0.Coords) : Fin 3 → Nat :=
  let c0_1686 : Index := 0#32
  let c0_1687 : Index := 0#32
  let arg1 : BitVec 32 := BitVec.ofNat 32 (i 1).val
  let c2_i32_1682 : BitVec 32 := 2#32
  let v2805 : BitVec 32 := Scalar.muli arg1 c2_i32_1682
  let c0_i32_1683 : BitVec 32 := 0#32
  let v2806 : BitVec 32 := Scalar.addi v2805 c0_i32_1683
  let c256_i32_1684 : BitVec 32 := 256#32
  let v2807 : BitVec 32 := Scalar.muli v2806 c256_i32_1684
  let c183_i32 : BitVec 32 := 183#32
  let v2808 : BitVec 32 := Scalar.addi v2807 c183_i32
  let v2810 : Index := Scalar.indexCast v2808
  ![0, 0, v2810.toNat]
def k0_mult1393 (v2811 : BitVec 32) : BitVec 32 :=
  v2811

def k0_mult1394 (i : grid0.Coords) : BitVec 32 :=
  let arg1 : BitVec 32 := BitVec.ofNat 32 (i 1).val
  let c2_i32_1682 : BitVec 32 := 2#32
  let v2805 : BitVec 32 := Scalar.muli arg1 c2_i32_1682
  let c0_i32_1683 : BitVec 32 := 0#32
  let v2806 : BitVec 32 := Scalar.addi v2805 c0_i32_1683
  let c256_i32_1684 : BitVec 32 := 256#32
  let v2807 : BitVec 32 := Scalar.muli v2806 c256_i32_1684
  let c183_i32 : BitVec 32 := 183#32
  let v2808 : BitVec 32 := Scalar.addi v2807 c183_i32
  let c8_i32_1688 : BitVec 32 := 8#32
  let v2813 : BitVec 32 := Scalar.muli v2808 c8_i32_1688
  v2813
def k0_off2803 (i : grid0.Coords) : Fin 1 → Nat :=
  let c1_i32_1685 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2809 : BitVec 32 := Scalar.subi c1_i32_1685 v9
  ![v2809.toNat]
def k0_off2804 (i : grid0.Coords) : Fin 3 → Nat :=
  let c1_i32_1685 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2809 : BitVec 32 := Scalar.subi c1_i32_1685 v9
  let arg1 : BitVec 32 := BitVec.ofNat 32 (i 1).val
  let c2_i32_1682 : BitVec 32 := 2#32
  let v2805 : BitVec 32 := Scalar.muli arg1 c2_i32_1682
  let c0_i32_1683 : BitVec 32 := 0#32
  let v2806 : BitVec 32 := Scalar.addi v2805 c0_i32_1683
  let c256_i32_1684 : BitVec 32 := 256#32
  let v2807 : BitVec 32 := Scalar.muli v2806 c256_i32_1684
  let c183_i32 : BitVec 32 := 183#32
  let v2808 : BitVec 32 := Scalar.addi v2807 c183_i32
  let c8_i32_1688 : BitVec 32 := 8#32
  let v2813 : BitVec 32 := Scalar.muli v2808 c8_i32_1688
  let v2814 : BitVec 32 := v2813
  let c0_i32_1689 : BitVec 32 := 0#32
  ![v2809.toNat, v2814.toNat, 0]
def k0_off2805 (v2811 : BitVec 32) : Fin 2 → Nat :=
  let v2812 : BitVec 32 := v2811
  let c0_i32_1690 : BitVec 32 := 0#32
  ![v2812.toNat, 0]

def k0_chk697 (i : grid0.Coords) (v2811 : BitVec 32) : Prop :=
  (∀ (k0_h3 : k0_cond3 i = 1#1), 8 ∣ (k0_mult1393 v2811).toNat) ∧
  (∀ (k0_h3 : k0_cond3 i = 1#1), ∀ a, (k0_off2805 v2811) a + S8x128.size a ≤ S131072x128.size a)
theorem k0_mult1393_dvd : ∀ (i : grid0.Coords) (v2811 : BitVec 32) (k0_hw697 : k0_chk697 i v2811), ∀ (k0_h3 : k0_cond3 i = 1#1), 8 ∣ (k0_mult1393 v2811).toNat := fun i v2811 k0_hw697 k0_h3 => k0_hw697.1 k0_h3
theorem k0_off2805_inb : ∀ (i : grid0.Coords) (v2811 : BitVec 32) (k0_hw697 : k0_chk697 i v2811), ∀ (k0_h3 : k0_cond3 i = 1#1), ∀ a, (k0_off2805 v2811) a + S8x128.size a ≤ S131072x128.size a := fun i v2811 k0_hw697 k0_h3 => k0_hw697.2 k0_h3

def k0_off2806 (i : grid0.Coords) : Fin 3 → Nat :=
  let c0_1695 : Index := 0#32
  let c0_1696 : Index := 0#32
  let arg1 : BitVec 32 := BitVec.ofNat 32 (i 1).val
  let c2_i32_1691 : BitVec 32 := 2#32
  let v2820 : BitVec 32 := Scalar.muli arg1 c2_i32_1691
  let c0_i32_1692 : BitVec 32 := 0#32
  let v2821 : BitVec 32 := Scalar.addi v2820 c0_i32_1692
  let c256_i32_1693 : BitVec 32 := 256#32
  let v2822 : BitVec 32 := Scalar.muli v2821 c256_i32_1693
  let c184_i32 : BitVec 32 := 184#32
  let v2823 : BitVec 32 := Scalar.addi v2822 c184_i32
  let v2825 : Index := Scalar.indexCast v2823
  ![0, 0, v2825.toNat]
def k0_mult1395 (v2826 : BitVec 32) : BitVec 32 :=
  v2826

def k0_mult1396 (i : grid0.Coords) : BitVec 32 :=
  let arg1 : BitVec 32 := BitVec.ofNat 32 (i 1).val
  let c2_i32_1691 : BitVec 32 := 2#32
  let v2820 : BitVec 32 := Scalar.muli arg1 c2_i32_1691
  let c0_i32_1692 : BitVec 32 := 0#32
  let v2821 : BitVec 32 := Scalar.addi v2820 c0_i32_1692
  let c256_i32_1693 : BitVec 32 := 256#32
  let v2822 : BitVec 32 := Scalar.muli v2821 c256_i32_1693
  let c184_i32 : BitVec 32 := 184#32
  let v2823 : BitVec 32 := Scalar.addi v2822 c184_i32
  let c8_i32_1697 : BitVec 32 := 8#32
  let v2828 : BitVec 32 := Scalar.muli v2823 c8_i32_1697
  v2828
def k0_off2807 (i : grid0.Coords) : Fin 1 → Nat :=
  let c1_i32_1694 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2824 : BitVec 32 := Scalar.subi c1_i32_1694 v9
  ![v2824.toNat]
def k0_off2808 (i : grid0.Coords) : Fin 3 → Nat :=
  let c1_i32_1694 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2824 : BitVec 32 := Scalar.subi c1_i32_1694 v9
  let arg1 : BitVec 32 := BitVec.ofNat 32 (i 1).val
  let c2_i32_1691 : BitVec 32 := 2#32
  let v2820 : BitVec 32 := Scalar.muli arg1 c2_i32_1691
  let c0_i32_1692 : BitVec 32 := 0#32
  let v2821 : BitVec 32 := Scalar.addi v2820 c0_i32_1692
  let c256_i32_1693 : BitVec 32 := 256#32
  let v2822 : BitVec 32 := Scalar.muli v2821 c256_i32_1693
  let c184_i32 : BitVec 32 := 184#32
  let v2823 : BitVec 32 := Scalar.addi v2822 c184_i32
  let c8_i32_1697 : BitVec 32 := 8#32
  let v2828 : BitVec 32 := Scalar.muli v2823 c8_i32_1697
  let v2829 : BitVec 32 := v2828
  let c0_i32_1698 : BitVec 32 := 0#32
  ![v2824.toNat, v2829.toNat, 0]
def k0_off2809 (v2826 : BitVec 32) : Fin 2 → Nat :=
  let v2827 : BitVec 32 := v2826
  let c0_i32_1699 : BitVec 32 := 0#32
  ![v2827.toNat, 0]

def k0_chk698 (i : grid0.Coords) (v2826 : BitVec 32) : Prop :=
  (∀ (k0_h3 : k0_cond3 i = 1#1), 8 ∣ (k0_mult1395 v2826).toNat) ∧
  (∀ (k0_h3 : k0_cond3 i = 1#1), ∀ a, (k0_off2809 v2826) a + S8x128.size a ≤ S131072x128.size a)
theorem k0_mult1395_dvd : ∀ (i : grid0.Coords) (v2826 : BitVec 32) (k0_hw698 : k0_chk698 i v2826), ∀ (k0_h3 : k0_cond3 i = 1#1), 8 ∣ (k0_mult1395 v2826).toNat := fun i v2826 k0_hw698 k0_h3 => k0_hw698.1 k0_h3
theorem k0_off2809_inb : ∀ (i : grid0.Coords) (v2826 : BitVec 32) (k0_hw698 : k0_chk698 i v2826), ∀ (k0_h3 : k0_cond3 i = 1#1), ∀ a, (k0_off2809 v2826) a + S8x128.size a ≤ S131072x128.size a := fun i v2826 k0_hw698 k0_h3 => k0_hw698.2 k0_h3

def k0_off2810 (i : grid0.Coords) : Fin 3 → Nat :=
  let c0_1704 : Index := 0#32
  let c0_1705 : Index := 0#32
  let arg1 : BitVec 32 := BitVec.ofNat 32 (i 1).val
  let c2_i32_1700 : BitVec 32 := 2#32
  let v2835 : BitVec 32 := Scalar.muli arg1 c2_i32_1700
  let c0_i32_1701 : BitVec 32 := 0#32
  let v2836 : BitVec 32 := Scalar.addi v2835 c0_i32_1701
  let c256_i32_1702 : BitVec 32 := 256#32
  let v2837 : BitVec 32 := Scalar.muli v2836 c256_i32_1702
  let c185_i32 : BitVec 32 := 185#32
  let v2838 : BitVec 32 := Scalar.addi v2837 c185_i32
  let v2840 : Index := Scalar.indexCast v2838
  ![0, 0, v2840.toNat]
def k0_mult1397 (v2841 : BitVec 32) : BitVec 32 :=
  v2841

def k0_mult1398 (i : grid0.Coords) : BitVec 32 :=
  let arg1 : BitVec 32 := BitVec.ofNat 32 (i 1).val
  let c2_i32_1700 : BitVec 32 := 2#32
  let v2835 : BitVec 32 := Scalar.muli arg1 c2_i32_1700
  let c0_i32_1701 : BitVec 32 := 0#32
  let v2836 : BitVec 32 := Scalar.addi v2835 c0_i32_1701
  let c256_i32_1702 : BitVec 32 := 256#32
  let v2837 : BitVec 32 := Scalar.muli v2836 c256_i32_1702
  let c185_i32 : BitVec 32 := 185#32
  let v2838 : BitVec 32 := Scalar.addi v2837 c185_i32
  let c8_i32_1706 : BitVec 32 := 8#32
  let v2843 : BitVec 32 := Scalar.muli v2838 c8_i32_1706
  v2843
def k0_off2811 (i : grid0.Coords) : Fin 1 → Nat :=
  let c1_i32_1703 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2839 : BitVec 32 := Scalar.subi c1_i32_1703 v9
  ![v2839.toNat]
def k0_off2812 (i : grid0.Coords) : Fin 3 → Nat :=
  let c1_i32_1703 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2839 : BitVec 32 := Scalar.subi c1_i32_1703 v9
  let arg1 : BitVec 32 := BitVec.ofNat 32 (i 1).val
  let c2_i32_1700 : BitVec 32 := 2#32
  let v2835 : BitVec 32 := Scalar.muli arg1 c2_i32_1700
  let c0_i32_1701 : BitVec 32 := 0#32
  let v2836 : BitVec 32 := Scalar.addi v2835 c0_i32_1701
  let c256_i32_1702 : BitVec 32 := 256#32
  let v2837 : BitVec 32 := Scalar.muli v2836 c256_i32_1702
  let c185_i32 : BitVec 32 := 185#32
  let v2838 : BitVec 32 := Scalar.addi v2837 c185_i32
  let c8_i32_1706 : BitVec 32 := 8#32
  let v2843 : BitVec 32 := Scalar.muli v2838 c8_i32_1706
  let v2844 : BitVec 32 := v2843
  let c0_i32_1707 : BitVec 32 := 0#32
  ![v2839.toNat, v2844.toNat, 0]
def k0_off2813 (v2841 : BitVec 32) : Fin 2 → Nat :=
  let v2842 : BitVec 32 := v2841
  let c0_i32_1708 : BitVec 32 := 0#32
  ![v2842.toNat, 0]

def k0_chk699 (i : grid0.Coords) (v2841 : BitVec 32) : Prop :=
  (∀ (k0_h3 : k0_cond3 i = 1#1), 8 ∣ (k0_mult1397 v2841).toNat) ∧
  (∀ (k0_h3 : k0_cond3 i = 1#1), ∀ a, (k0_off2813 v2841) a + S8x128.size a ≤ S131072x128.size a)
theorem k0_mult1397_dvd : ∀ (i : grid0.Coords) (v2841 : BitVec 32) (k0_hw699 : k0_chk699 i v2841), ∀ (k0_h3 : k0_cond3 i = 1#1), 8 ∣ (k0_mult1397 v2841).toNat := fun i v2841 k0_hw699 k0_h3 => k0_hw699.1 k0_h3
theorem k0_off2813_inb : ∀ (i : grid0.Coords) (v2841 : BitVec 32) (k0_hw699 : k0_chk699 i v2841), ∀ (k0_h3 : k0_cond3 i = 1#1), ∀ a, (k0_off2813 v2841) a + S8x128.size a ≤ S131072x128.size a := fun i v2841 k0_hw699 k0_h3 => k0_hw699.2 k0_h3

def k0_off2814 (i : grid0.Coords) : Fin 3 → Nat :=
  let c0_1713 : Index := 0#32
  let c0_1714 : Index := 0#32
  let arg1 : BitVec 32 := BitVec.ofNat 32 (i 1).val
  let c2_i32_1709 : BitVec 32 := 2#32
  let v2850 : BitVec 32 := Scalar.muli arg1 c2_i32_1709
  let c0_i32_1710 : BitVec 32 := 0#32
  let v2851 : BitVec 32 := Scalar.addi v2850 c0_i32_1710
  let c256_i32_1711 : BitVec 32 := 256#32
  let v2852 : BitVec 32 := Scalar.muli v2851 c256_i32_1711
  let c186_i32 : BitVec 32 := 186#32
  let v2853 : BitVec 32 := Scalar.addi v2852 c186_i32
  let v2855 : Index := Scalar.indexCast v2853
  ![0, 0, v2855.toNat]
def k0_mult1399 (v2856 : BitVec 32) : BitVec 32 :=
  v2856

def k0_mult1400 (i : grid0.Coords) : BitVec 32 :=
  let arg1 : BitVec 32 := BitVec.ofNat 32 (i 1).val
  let c2_i32_1709 : BitVec 32 := 2#32
  let v2850 : BitVec 32 := Scalar.muli arg1 c2_i32_1709
  let c0_i32_1710 : BitVec 32 := 0#32
  let v2851 : BitVec 32 := Scalar.addi v2850 c0_i32_1710
  let c256_i32_1711 : BitVec 32 := 256#32
  let v2852 : BitVec 32 := Scalar.muli v2851 c256_i32_1711
  let c186_i32 : BitVec 32 := 186#32
  let v2853 : BitVec 32 := Scalar.addi v2852 c186_i32
  let c8_i32_1715 : BitVec 32 := 8#32
  let v2858 : BitVec 32 := Scalar.muli v2853 c8_i32_1715
  v2858
def k0_off2815 (i : grid0.Coords) : Fin 1 → Nat :=
  let c1_i32_1712 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2854 : BitVec 32 := Scalar.subi c1_i32_1712 v9
  ![v2854.toNat]
def k0_off2816 (i : grid0.Coords) : Fin 3 → Nat :=
  let c1_i32_1712 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2854 : BitVec 32 := Scalar.subi c1_i32_1712 v9
  let arg1 : BitVec 32 := BitVec.ofNat 32 (i 1).val
  let c2_i32_1709 : BitVec 32 := 2#32
  let v2850 : BitVec 32 := Scalar.muli arg1 c2_i32_1709
  let c0_i32_1710 : BitVec 32 := 0#32
  let v2851 : BitVec 32 := Scalar.addi v2850 c0_i32_1710
  let c256_i32_1711 : BitVec 32 := 256#32
  let v2852 : BitVec 32 := Scalar.muli v2851 c256_i32_1711
  let c186_i32 : BitVec 32 := 186#32
  let v2853 : BitVec 32 := Scalar.addi v2852 c186_i32
  let c8_i32_1715 : BitVec 32 := 8#32
  let v2858 : BitVec 32 := Scalar.muli v2853 c8_i32_1715
  let v2859 : BitVec 32 := v2858
  let c0_i32_1716 : BitVec 32 := 0#32
  ![v2854.toNat, v2859.toNat, 0]
def k0_off2817 (v2856 : BitVec 32) : Fin 2 → Nat :=
  let v2857 : BitVec 32 := v2856
  let c0_i32_1717 : BitVec 32 := 0#32
  ![v2857.toNat, 0]

def k0_chk700 (i : grid0.Coords) (v2856 : BitVec 32) : Prop :=
  (∀ (k0_h3 : k0_cond3 i = 1#1), 8 ∣ (k0_mult1399 v2856).toNat) ∧
  (∀ (k0_h3 : k0_cond3 i = 1#1), ∀ a, (k0_off2817 v2856) a + S8x128.size a ≤ S131072x128.size a)
theorem k0_mult1399_dvd : ∀ (i : grid0.Coords) (v2856 : BitVec 32) (k0_hw700 : k0_chk700 i v2856), ∀ (k0_h3 : k0_cond3 i = 1#1), 8 ∣ (k0_mult1399 v2856).toNat := fun i v2856 k0_hw700 k0_h3 => k0_hw700.1 k0_h3
theorem k0_off2817_inb : ∀ (i : grid0.Coords) (v2856 : BitVec 32) (k0_hw700 : k0_chk700 i v2856), ∀ (k0_h3 : k0_cond3 i = 1#1), ∀ a, (k0_off2817 v2856) a + S8x128.size a ≤ S131072x128.size a := fun i v2856 k0_hw700 k0_h3 => k0_hw700.2 k0_h3

def k0_off2818 (i : grid0.Coords) : Fin 3 → Nat :=
  let c0_1722 : Index := 0#32
  let c0_1723 : Index := 0#32
  let arg1 : BitVec 32 := BitVec.ofNat 32 (i 1).val
  let c2_i32_1718 : BitVec 32 := 2#32
  let v2865 : BitVec 32 := Scalar.muli arg1 c2_i32_1718
  let c0_i32_1719 : BitVec 32 := 0#32
  let v2866 : BitVec 32 := Scalar.addi v2865 c0_i32_1719
  let c256_i32_1720 : BitVec 32 := 256#32
  let v2867 : BitVec 32 := Scalar.muli v2866 c256_i32_1720
  let c187_i32 : BitVec 32 := 187#32
  let v2868 : BitVec 32 := Scalar.addi v2867 c187_i32
  let v2870 : Index := Scalar.indexCast v2868
  ![0, 0, v2870.toNat]
def k0_mult1401 (v2871 : BitVec 32) : BitVec 32 :=
  v2871

def k0_mult1402 (i : grid0.Coords) : BitVec 32 :=
  let arg1 : BitVec 32 := BitVec.ofNat 32 (i 1).val
  let c2_i32_1718 : BitVec 32 := 2#32
  let v2865 : BitVec 32 := Scalar.muli arg1 c2_i32_1718
  let c0_i32_1719 : BitVec 32 := 0#32
  let v2866 : BitVec 32 := Scalar.addi v2865 c0_i32_1719
  let c256_i32_1720 : BitVec 32 := 256#32
  let v2867 : BitVec 32 := Scalar.muli v2866 c256_i32_1720
  let c187_i32 : BitVec 32 := 187#32
  let v2868 : BitVec 32 := Scalar.addi v2867 c187_i32
  let c8_i32_1724 : BitVec 32 := 8#32
  let v2873 : BitVec 32 := Scalar.muli v2868 c8_i32_1724
  v2873
def k0_off2819 (i : grid0.Coords) : Fin 1 → Nat :=
  let c1_i32_1721 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2869 : BitVec 32 := Scalar.subi c1_i32_1721 v9
  ![v2869.toNat]
def k0_off2820 (i : grid0.Coords) : Fin 3 → Nat :=
  let c1_i32_1721 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2869 : BitVec 32 := Scalar.subi c1_i32_1721 v9
  let arg1 : BitVec 32 := BitVec.ofNat 32 (i 1).val
  let c2_i32_1718 : BitVec 32 := 2#32
  let v2865 : BitVec 32 := Scalar.muli arg1 c2_i32_1718
  let c0_i32_1719 : BitVec 32 := 0#32
  let v2866 : BitVec 32 := Scalar.addi v2865 c0_i32_1719
  let c256_i32_1720 : BitVec 32 := 256#32
  let v2867 : BitVec 32 := Scalar.muli v2866 c256_i32_1720
  let c187_i32 : BitVec 32 := 187#32
  let v2868 : BitVec 32 := Scalar.addi v2867 c187_i32
  let c8_i32_1724 : BitVec 32 := 8#32
  let v2873 : BitVec 32 := Scalar.muli v2868 c8_i32_1724
  let v2874 : BitVec 32 := v2873
  let c0_i32_1725 : BitVec 32 := 0#32
  ![v2869.toNat, v2874.toNat, 0]
def k0_off2821 (v2871 : BitVec 32) : Fin 2 → Nat :=
  let v2872 : BitVec 32 := v2871
  let c0_i32_1726 : BitVec 32 := 0#32
  ![v2872.toNat, 0]

def k0_chk701 (i : grid0.Coords) (v2871 : BitVec 32) : Prop :=
  (∀ (k0_h3 : k0_cond3 i = 1#1), 8 ∣ (k0_mult1401 v2871).toNat) ∧
  (∀ (k0_h3 : k0_cond3 i = 1#1), ∀ a, (k0_off2821 v2871) a + S8x128.size a ≤ S131072x128.size a)
theorem k0_mult1401_dvd : ∀ (i : grid0.Coords) (v2871 : BitVec 32) (k0_hw701 : k0_chk701 i v2871), ∀ (k0_h3 : k0_cond3 i = 1#1), 8 ∣ (k0_mult1401 v2871).toNat := fun i v2871 k0_hw701 k0_h3 => k0_hw701.1 k0_h3
theorem k0_off2821_inb : ∀ (i : grid0.Coords) (v2871 : BitVec 32) (k0_hw701 : k0_chk701 i v2871), ∀ (k0_h3 : k0_cond3 i = 1#1), ∀ a, (k0_off2821 v2871) a + S8x128.size a ≤ S131072x128.size a := fun i v2871 k0_hw701 k0_h3 => k0_hw701.2 k0_h3

def k0_off2822 (i : grid0.Coords) : Fin 3 → Nat :=
  let c0_1731 : Index := 0#32
  let c0_1732 : Index := 0#32
  let arg1 : BitVec 32 := BitVec.ofNat 32 (i 1).val
  let c2_i32_1727 : BitVec 32 := 2#32
  let v2880 : BitVec 32 := Scalar.muli arg1 c2_i32_1727
  let c0_i32_1728 : BitVec 32 := 0#32
  let v2881 : BitVec 32 := Scalar.addi v2880 c0_i32_1728
  let c256_i32_1729 : BitVec 32 := 256#32
  let v2882 : BitVec 32 := Scalar.muli v2881 c256_i32_1729
  let c188_i32 : BitVec 32 := 188#32
  let v2883 : BitVec 32 := Scalar.addi v2882 c188_i32
  let v2885 : Index := Scalar.indexCast v2883
  ![0, 0, v2885.toNat]
def k0_mult1403 (v2886 : BitVec 32) : BitVec 32 :=
  v2886

def k0_mult1404 (i : grid0.Coords) : BitVec 32 :=
  let arg1 : BitVec 32 := BitVec.ofNat 32 (i 1).val
  let c2_i32_1727 : BitVec 32 := 2#32
  let v2880 : BitVec 32 := Scalar.muli arg1 c2_i32_1727
  let c0_i32_1728 : BitVec 32 := 0#32
  let v2881 : BitVec 32 := Scalar.addi v2880 c0_i32_1728
  let c256_i32_1729 : BitVec 32 := 256#32
  let v2882 : BitVec 32 := Scalar.muli v2881 c256_i32_1729
  let c188_i32 : BitVec 32 := 188#32
  let v2883 : BitVec 32 := Scalar.addi v2882 c188_i32
  let c8_i32_1733 : BitVec 32 := 8#32
  let v2888 : BitVec 32 := Scalar.muli v2883 c8_i32_1733
  v2888
def k0_off2823 (i : grid0.Coords) : Fin 1 → Nat :=
  let c1_i32_1730 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2884 : BitVec 32 := Scalar.subi c1_i32_1730 v9
  ![v2884.toNat]
def k0_off2824 (i : grid0.Coords) : Fin 3 → Nat :=
  let c1_i32_1730 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2884 : BitVec 32 := Scalar.subi c1_i32_1730 v9
  let arg1 : BitVec 32 := BitVec.ofNat 32 (i 1).val
  let c2_i32_1727 : BitVec 32 := 2#32
  let v2880 : BitVec 32 := Scalar.muli arg1 c2_i32_1727
  let c0_i32_1728 : BitVec 32 := 0#32
  let v2881 : BitVec 32 := Scalar.addi v2880 c0_i32_1728
  let c256_i32_1729 : BitVec 32 := 256#32
  let v2882 : BitVec 32 := Scalar.muli v2881 c256_i32_1729
  let c188_i32 : BitVec 32 := 188#32
  let v2883 : BitVec 32 := Scalar.addi v2882 c188_i32
  let c8_i32_1733 : BitVec 32 := 8#32
  let v2888 : BitVec 32 := Scalar.muli v2883 c8_i32_1733
  let v2889 : BitVec 32 := v2888
  let c0_i32_1734 : BitVec 32 := 0#32
  ![v2884.toNat, v2889.toNat, 0]
def k0_off2825 (v2886 : BitVec 32) : Fin 2 → Nat :=
  let v2887 : BitVec 32 := v2886
  let c0_i32_1735 : BitVec 32 := 0#32
  ![v2887.toNat, 0]

def k0_chk702 (i : grid0.Coords) (v2886 : BitVec 32) : Prop :=
  (∀ (k0_h3 : k0_cond3 i = 1#1), 8 ∣ (k0_mult1403 v2886).toNat) ∧
  (∀ (k0_h3 : k0_cond3 i = 1#1), ∀ a, (k0_off2825 v2886) a + S8x128.size a ≤ S131072x128.size a)
theorem k0_mult1403_dvd : ∀ (i : grid0.Coords) (v2886 : BitVec 32) (k0_hw702 : k0_chk702 i v2886), ∀ (k0_h3 : k0_cond3 i = 1#1), 8 ∣ (k0_mult1403 v2886).toNat := fun i v2886 k0_hw702 k0_h3 => k0_hw702.1 k0_h3
theorem k0_off2825_inb : ∀ (i : grid0.Coords) (v2886 : BitVec 32) (k0_hw702 : k0_chk702 i v2886), ∀ (k0_h3 : k0_cond3 i = 1#1), ∀ a, (k0_off2825 v2886) a + S8x128.size a ≤ S131072x128.size a := fun i v2886 k0_hw702 k0_h3 => k0_hw702.2 k0_h3

def k0_off2826 (i : grid0.Coords) : Fin 3 → Nat :=
  let c0_1740 : Index := 0#32
  let c0_1741 : Index := 0#32
  let arg1 : BitVec 32 := BitVec.ofNat 32 (i 1).val
  let c2_i32_1736 : BitVec 32 := 2#32
  let v2895 : BitVec 32 := Scalar.muli arg1 c2_i32_1736
  let c0_i32_1737 : BitVec 32 := 0#32
  let v2896 : BitVec 32 := Scalar.addi v2895 c0_i32_1737
  let c256_i32_1738 : BitVec 32 := 256#32
  let v2897 : BitVec 32 := Scalar.muli v2896 c256_i32_1738
  let c189_i32 : BitVec 32 := 189#32
  let v2898 : BitVec 32 := Scalar.addi v2897 c189_i32
  let v2900 : Index := Scalar.indexCast v2898
  ![0, 0, v2900.toNat]
def k0_mult1405 (v2901 : BitVec 32) : BitVec 32 :=
  v2901

def k0_mult1406 (i : grid0.Coords) : BitVec 32 :=
  let arg1 : BitVec 32 := BitVec.ofNat 32 (i 1).val
  let c2_i32_1736 : BitVec 32 := 2#32
  let v2895 : BitVec 32 := Scalar.muli arg1 c2_i32_1736
  let c0_i32_1737 : BitVec 32 := 0#32
  let v2896 : BitVec 32 := Scalar.addi v2895 c0_i32_1737
  let c256_i32_1738 : BitVec 32 := 256#32
  let v2897 : BitVec 32 := Scalar.muli v2896 c256_i32_1738
  let c189_i32 : BitVec 32 := 189#32
  let v2898 : BitVec 32 := Scalar.addi v2897 c189_i32
  let c8_i32_1742 : BitVec 32 := 8#32
  let v2903 : BitVec 32 := Scalar.muli v2898 c8_i32_1742
  v2903
def k0_off2827 (i : grid0.Coords) : Fin 1 → Nat :=
  let c1_i32_1739 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2899 : BitVec 32 := Scalar.subi c1_i32_1739 v9
  ![v2899.toNat]
def k0_off2828 (i : grid0.Coords) : Fin 3 → Nat :=
  let c1_i32_1739 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2899 : BitVec 32 := Scalar.subi c1_i32_1739 v9
  let arg1 : BitVec 32 := BitVec.ofNat 32 (i 1).val
  let c2_i32_1736 : BitVec 32 := 2#32
  let v2895 : BitVec 32 := Scalar.muli arg1 c2_i32_1736
  let c0_i32_1737 : BitVec 32 := 0#32
  let v2896 : BitVec 32 := Scalar.addi v2895 c0_i32_1737
  let c256_i32_1738 : BitVec 32 := 256#32
  let v2897 : BitVec 32 := Scalar.muli v2896 c256_i32_1738
  let c189_i32 : BitVec 32 := 189#32
  let v2898 : BitVec 32 := Scalar.addi v2897 c189_i32
  let c8_i32_1742 : BitVec 32 := 8#32
  let v2903 : BitVec 32 := Scalar.muli v2898 c8_i32_1742
  let v2904 : BitVec 32 := v2903
  let c0_i32_1743 : BitVec 32 := 0#32
  ![v2899.toNat, v2904.toNat, 0]
def k0_off2829 (v2901 : BitVec 32) : Fin 2 → Nat :=
  let v2902 : BitVec 32 := v2901
  let c0_i32_1744 : BitVec 32 := 0#32
  ![v2902.toNat, 0]

def k0_chk703 (i : grid0.Coords) (v2901 : BitVec 32) : Prop :=
  (∀ (k0_h3 : k0_cond3 i = 1#1), 8 ∣ (k0_mult1405 v2901).toNat) ∧
  (∀ (k0_h3 : k0_cond3 i = 1#1), ∀ a, (k0_off2829 v2901) a + S8x128.size a ≤ S131072x128.size a)
theorem k0_mult1405_dvd : ∀ (i : grid0.Coords) (v2901 : BitVec 32) (k0_hw703 : k0_chk703 i v2901), ∀ (k0_h3 : k0_cond3 i = 1#1), 8 ∣ (k0_mult1405 v2901).toNat := fun i v2901 k0_hw703 k0_h3 => k0_hw703.1 k0_h3
theorem k0_off2829_inb : ∀ (i : grid0.Coords) (v2901 : BitVec 32) (k0_hw703 : k0_chk703 i v2901), ∀ (k0_h3 : k0_cond3 i = 1#1), ∀ a, (k0_off2829 v2901) a + S8x128.size a ≤ S131072x128.size a := fun i v2901 k0_hw703 k0_h3 => k0_hw703.2 k0_h3

def k0_off2830 (i : grid0.Coords) : Fin 3 → Nat :=
  let c0_1749 : Index := 0#32
  let c0_1750 : Index := 0#32
  let arg1 : BitVec 32 := BitVec.ofNat 32 (i 1).val
  let c2_i32_1745 : BitVec 32 := 2#32
  let v2910 : BitVec 32 := Scalar.muli arg1 c2_i32_1745
  let c0_i32_1746 : BitVec 32 := 0#32
  let v2911 : BitVec 32 := Scalar.addi v2910 c0_i32_1746
  let c256_i32_1747 : BitVec 32 := 256#32
  let v2912 : BitVec 32 := Scalar.muli v2911 c256_i32_1747
  let c190_i32 : BitVec 32 := 190#32
  let v2913 : BitVec 32 := Scalar.addi v2912 c190_i32
  let v2915 : Index := Scalar.indexCast v2913
  ![0, 0, v2915.toNat]
def k0_mult1407 (v2916 : BitVec 32) : BitVec 32 :=
  v2916

def k0_mult1408 (i : grid0.Coords) : BitVec 32 :=
  let arg1 : BitVec 32 := BitVec.ofNat 32 (i 1).val
  let c2_i32_1745 : BitVec 32 := 2#32
  let v2910 : BitVec 32 := Scalar.muli arg1 c2_i32_1745
  let c0_i32_1746 : BitVec 32 := 0#32
  let v2911 : BitVec 32 := Scalar.addi v2910 c0_i32_1746
  let c256_i32_1747 : BitVec 32 := 256#32
  let v2912 : BitVec 32 := Scalar.muli v2911 c256_i32_1747
  let c190_i32 : BitVec 32 := 190#32
  let v2913 : BitVec 32 := Scalar.addi v2912 c190_i32
  let c8_i32_1751 : BitVec 32 := 8#32
  let v2918 : BitVec 32 := Scalar.muli v2913 c8_i32_1751
  v2918
def k0_off2831 (i : grid0.Coords) : Fin 1 → Nat :=
  let c1_i32_1748 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2914 : BitVec 32 := Scalar.subi c1_i32_1748 v9
  ![v2914.toNat]
def k0_off2832 (i : grid0.Coords) : Fin 3 → Nat :=
  let c1_i32_1748 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2914 : BitVec 32 := Scalar.subi c1_i32_1748 v9
  let arg1 : BitVec 32 := BitVec.ofNat 32 (i 1).val
  let c2_i32_1745 : BitVec 32 := 2#32
  let v2910 : BitVec 32 := Scalar.muli arg1 c2_i32_1745
  let c0_i32_1746 : BitVec 32 := 0#32
  let v2911 : BitVec 32 := Scalar.addi v2910 c0_i32_1746
  let c256_i32_1747 : BitVec 32 := 256#32
  let v2912 : BitVec 32 := Scalar.muli v2911 c256_i32_1747
  let c190_i32 : BitVec 32 := 190#32
  let v2913 : BitVec 32 := Scalar.addi v2912 c190_i32
  let c8_i32_1751 : BitVec 32 := 8#32
  let v2918 : BitVec 32 := Scalar.muli v2913 c8_i32_1751
  let v2919 : BitVec 32 := v2918
  let c0_i32_1752 : BitVec 32 := 0#32
  ![v2914.toNat, v2919.toNat, 0]
def k0_off2833 (v2916 : BitVec 32) : Fin 2 → Nat :=
  let v2917 : BitVec 32 := v2916
  let c0_i32_1753 : BitVec 32 := 0#32
  ![v2917.toNat, 0]

def k0_chk704 (i : grid0.Coords) (v2916 : BitVec 32) : Prop :=
  (∀ (k0_h3 : k0_cond3 i = 1#1), 8 ∣ (k0_mult1407 v2916).toNat) ∧
  (∀ (k0_h3 : k0_cond3 i = 1#1), ∀ a, (k0_off2833 v2916) a + S8x128.size a ≤ S131072x128.size a)
theorem k0_mult1407_dvd : ∀ (i : grid0.Coords) (v2916 : BitVec 32) (k0_hw704 : k0_chk704 i v2916), ∀ (k0_h3 : k0_cond3 i = 1#1), 8 ∣ (k0_mult1407 v2916).toNat := fun i v2916 k0_hw704 k0_h3 => k0_hw704.1 k0_h3
theorem k0_off2833_inb : ∀ (i : grid0.Coords) (v2916 : BitVec 32) (k0_hw704 : k0_chk704 i v2916), ∀ (k0_h3 : k0_cond3 i = 1#1), ∀ a, (k0_off2833 v2916) a + S8x128.size a ≤ S131072x128.size a := fun i v2916 k0_hw704 k0_h3 => k0_hw704.2 k0_h3

def k0_off2834 (i : grid0.Coords) : Fin 3 → Nat :=
  let c0_1758 : Index := 0#32
  let c0_1759 : Index := 0#32
  let arg1 : BitVec 32 := BitVec.ofNat 32 (i 1).val
  let c2_i32_1754 : BitVec 32 := 2#32
  let v2925 : BitVec 32 := Scalar.muli arg1 c2_i32_1754
  let c0_i32_1755 : BitVec 32 := 0#32
  let v2926 : BitVec 32 := Scalar.addi v2925 c0_i32_1755
  let c256_i32_1756 : BitVec 32 := 256#32
  let v2927 : BitVec 32 := Scalar.muli v2926 c256_i32_1756
  let c191_i32 : BitVec 32 := 191#32
  let v2928 : BitVec 32 := Scalar.addi v2927 c191_i32
  let v2930 : Index := Scalar.indexCast v2928
  ![0, 0, v2930.toNat]
def k0_mult1409 (v2931 : BitVec 32) : BitVec 32 :=
  v2931

def k0_mult1410 (i : grid0.Coords) : BitVec 32 :=
  let arg1 : BitVec 32 := BitVec.ofNat 32 (i 1).val
  let c2_i32_1754 : BitVec 32 := 2#32
  let v2925 : BitVec 32 := Scalar.muli arg1 c2_i32_1754
  let c0_i32_1755 : BitVec 32 := 0#32
  let v2926 : BitVec 32 := Scalar.addi v2925 c0_i32_1755
  let c256_i32_1756 : BitVec 32 := 256#32
  let v2927 : BitVec 32 := Scalar.muli v2926 c256_i32_1756
  let c191_i32 : BitVec 32 := 191#32
  let v2928 : BitVec 32 := Scalar.addi v2927 c191_i32
  let c8_i32_1760 : BitVec 32 := 8#32
  let v2933 : BitVec 32 := Scalar.muli v2928 c8_i32_1760
  v2933
def k0_off2835 (i : grid0.Coords) : Fin 1 → Nat :=
  let c1_i32_1757 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2929 : BitVec 32 := Scalar.subi c1_i32_1757 v9
  ![v2929.toNat]
def k0_off2836 (i : grid0.Coords) : Fin 3 → Nat :=
  let c1_i32_1757 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2929 : BitVec 32 := Scalar.subi c1_i32_1757 v9
  let arg1 : BitVec 32 := BitVec.ofNat 32 (i 1).val
  let c2_i32_1754 : BitVec 32 := 2#32
  let v2925 : BitVec 32 := Scalar.muli arg1 c2_i32_1754
  let c0_i32_1755 : BitVec 32 := 0#32
  let v2926 : BitVec 32 := Scalar.addi v2925 c0_i32_1755
  let c256_i32_1756 : BitVec 32 := 256#32
  let v2927 : BitVec 32 := Scalar.muli v2926 c256_i32_1756
  let c191_i32 : BitVec 32 := 191#32
  let v2928 : BitVec 32 := Scalar.addi v2927 c191_i32
  let c8_i32_1760 : BitVec 32 := 8#32
  let v2933 : BitVec 32 := Scalar.muli v2928 c8_i32_1760
  let v2934 : BitVec 32 := v2933
  let c0_i32_1761 : BitVec 32 := 0#32
  ![v2929.toNat, v2934.toNat, 0]
def k0_off2837 (v2931 : BitVec 32) : Fin 2 → Nat :=
  let v2932 : BitVec 32 := v2931
  let c0_i32_1762 : BitVec 32 := 0#32
  ![v2932.toNat, 0]

def k0_chk705 (i : grid0.Coords) (v2931 : BitVec 32) : Prop :=
  (∀ (k0_h3 : k0_cond3 i = 1#1), 8 ∣ (k0_mult1409 v2931).toNat) ∧
  (∀ (k0_h3 : k0_cond3 i = 1#1), ∀ a, (k0_off2837 v2931) a + S8x128.size a ≤ S131072x128.size a)
theorem k0_mult1409_dvd : ∀ (i : grid0.Coords) (v2931 : BitVec 32) (k0_hw705 : k0_chk705 i v2931), ∀ (k0_h3 : k0_cond3 i = 1#1), 8 ∣ (k0_mult1409 v2931).toNat := fun i v2931 k0_hw705 k0_h3 => k0_hw705.1 k0_h3
theorem k0_off2837_inb : ∀ (i : grid0.Coords) (v2931 : BitVec 32) (k0_hw705 : k0_chk705 i v2931), ∀ (k0_h3 : k0_cond3 i = 1#1), ∀ a, (k0_off2837 v2931) a + S8x128.size a ≤ S131072x128.size a := fun i v2931 k0_hw705 k0_h3 => k0_hw705.2 k0_h3

def k0_off2838 (i : grid0.Coords) : Fin 3 → Nat :=
  let c0_1767 : Index := 0#32
  let c0_1768 : Index := 0#32
  let arg1 : BitVec 32 := BitVec.ofNat 32 (i 1).val
  let c2_i32_1763 : BitVec 32 := 2#32
  let v2940 : BitVec 32 := Scalar.muli arg1 c2_i32_1763
  let c0_i32_1764 : BitVec 32 := 0#32
  let v2941 : BitVec 32 := Scalar.addi v2940 c0_i32_1764
  let c256_i32_1765 : BitVec 32 := 256#32
  let v2942 : BitVec 32 := Scalar.muli v2941 c256_i32_1765
  let c192_i32 : BitVec 32 := 192#32
  let v2943 : BitVec 32 := Scalar.addi v2942 c192_i32
  let v2945 : Index := Scalar.indexCast v2943
  ![0, 0, v2945.toNat]
def k0_mult1411 (v2946 : BitVec 32) : BitVec 32 :=
  v2946

def k0_mult1412 (i : grid0.Coords) : BitVec 32 :=
  let arg1 : BitVec 32 := BitVec.ofNat 32 (i 1).val
  let c2_i32_1763 : BitVec 32 := 2#32
  let v2940 : BitVec 32 := Scalar.muli arg1 c2_i32_1763
  let c0_i32_1764 : BitVec 32 := 0#32
  let v2941 : BitVec 32 := Scalar.addi v2940 c0_i32_1764
  let c256_i32_1765 : BitVec 32 := 256#32
  let v2942 : BitVec 32 := Scalar.muli v2941 c256_i32_1765
  let c192_i32 : BitVec 32 := 192#32
  let v2943 : BitVec 32 := Scalar.addi v2942 c192_i32
  let c8_i32_1769 : BitVec 32 := 8#32
  let v2948 : BitVec 32 := Scalar.muli v2943 c8_i32_1769
  v2948
def k0_off2839 (i : grid0.Coords) : Fin 1 → Nat :=
  let c1_i32_1766 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2944 : BitVec 32 := Scalar.subi c1_i32_1766 v9
  ![v2944.toNat]
def k0_off2840 (i : grid0.Coords) : Fin 3 → Nat :=
  let c1_i32_1766 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2944 : BitVec 32 := Scalar.subi c1_i32_1766 v9
  let arg1 : BitVec 32 := BitVec.ofNat 32 (i 1).val
  let c2_i32_1763 : BitVec 32 := 2#32
  let v2940 : BitVec 32 := Scalar.muli arg1 c2_i32_1763
  let c0_i32_1764 : BitVec 32 := 0#32
  let v2941 : BitVec 32 := Scalar.addi v2940 c0_i32_1764
  let c256_i32_1765 : BitVec 32 := 256#32
  let v2942 : BitVec 32 := Scalar.muli v2941 c256_i32_1765
  let c192_i32 : BitVec 32 := 192#32
  let v2943 : BitVec 32 := Scalar.addi v2942 c192_i32
  let c8_i32_1769 : BitVec 32 := 8#32
  let v2948 : BitVec 32 := Scalar.muli v2943 c8_i32_1769
  let v2949 : BitVec 32 := v2948
  let c0_i32_1770 : BitVec 32 := 0#32
  ![v2944.toNat, v2949.toNat, 0]
def k0_off2841 (v2946 : BitVec 32) : Fin 2 → Nat :=
  let v2947 : BitVec 32 := v2946
  let c0_i32_1771 : BitVec 32 := 0#32
  ![v2947.toNat, 0]

def k0_chk706 (i : grid0.Coords) (v2946 : BitVec 32) : Prop :=
  (∀ (k0_h3 : k0_cond3 i = 1#1), 8 ∣ (k0_mult1411 v2946).toNat) ∧
  (∀ (k0_h3 : k0_cond3 i = 1#1), ∀ a, (k0_off2841 v2946) a + S8x128.size a ≤ S131072x128.size a)
theorem k0_mult1411_dvd : ∀ (i : grid0.Coords) (v2946 : BitVec 32) (k0_hw706 : k0_chk706 i v2946), ∀ (k0_h3 : k0_cond3 i = 1#1), 8 ∣ (k0_mult1411 v2946).toNat := fun i v2946 k0_hw706 k0_h3 => k0_hw706.1 k0_h3
theorem k0_off2841_inb : ∀ (i : grid0.Coords) (v2946 : BitVec 32) (k0_hw706 : k0_chk706 i v2946), ∀ (k0_h3 : k0_cond3 i = 1#1), ∀ a, (k0_off2841 v2946) a + S8x128.size a ≤ S131072x128.size a := fun i v2946 k0_hw706 k0_h3 => k0_hw706.2 k0_h3

def k0_off2842 (i : grid0.Coords) : Fin 3 → Nat :=
  let c0_1776 : Index := 0#32
  let c0_1777 : Index := 0#32
  let arg1 : BitVec 32 := BitVec.ofNat 32 (i 1).val
  let c2_i32_1772 : BitVec 32 := 2#32
  let v2955 : BitVec 32 := Scalar.muli arg1 c2_i32_1772
  let c0_i32_1773 : BitVec 32 := 0#32
  let v2956 : BitVec 32 := Scalar.addi v2955 c0_i32_1773
  let c256_i32_1774 : BitVec 32 := 256#32
  let v2957 : BitVec 32 := Scalar.muli v2956 c256_i32_1774
  let c193_i32 : BitVec 32 := 193#32
  let v2958 : BitVec 32 := Scalar.addi v2957 c193_i32
  let v2960 : Index := Scalar.indexCast v2958
  ![0, 0, v2960.toNat]
def k0_mult1413 (v2961 : BitVec 32) : BitVec 32 :=
  v2961

def k0_mult1414 (i : grid0.Coords) : BitVec 32 :=
  let arg1 : BitVec 32 := BitVec.ofNat 32 (i 1).val
  let c2_i32_1772 : BitVec 32 := 2#32
  let v2955 : BitVec 32 := Scalar.muli arg1 c2_i32_1772
  let c0_i32_1773 : BitVec 32 := 0#32
  let v2956 : BitVec 32 := Scalar.addi v2955 c0_i32_1773
  let c256_i32_1774 : BitVec 32 := 256#32
  let v2957 : BitVec 32 := Scalar.muli v2956 c256_i32_1774
  let c193_i32 : BitVec 32 := 193#32
  let v2958 : BitVec 32 := Scalar.addi v2957 c193_i32
  let c8_i32_1778 : BitVec 32 := 8#32
  let v2963 : BitVec 32 := Scalar.muli v2958 c8_i32_1778
  v2963
def k0_off2843 (i : grid0.Coords) : Fin 1 → Nat :=
  let c1_i32_1775 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2959 : BitVec 32 := Scalar.subi c1_i32_1775 v9
  ![v2959.toNat]
def k0_off2844 (i : grid0.Coords) : Fin 3 → Nat :=
  let c1_i32_1775 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2959 : BitVec 32 := Scalar.subi c1_i32_1775 v9
  let arg1 : BitVec 32 := BitVec.ofNat 32 (i 1).val
  let c2_i32_1772 : BitVec 32 := 2#32
  let v2955 : BitVec 32 := Scalar.muli arg1 c2_i32_1772
  let c0_i32_1773 : BitVec 32 := 0#32
  let v2956 : BitVec 32 := Scalar.addi v2955 c0_i32_1773
  let c256_i32_1774 : BitVec 32 := 256#32
  let v2957 : BitVec 32 := Scalar.muli v2956 c256_i32_1774
  let c193_i32 : BitVec 32 := 193#32
  let v2958 : BitVec 32 := Scalar.addi v2957 c193_i32
  let c8_i32_1778 : BitVec 32 := 8#32
  let v2963 : BitVec 32 := Scalar.muli v2958 c8_i32_1778
  let v2964 : BitVec 32 := v2963
  let c0_i32_1779 : BitVec 32 := 0#32
  ![v2959.toNat, v2964.toNat, 0]
def k0_off2845 (v2961 : BitVec 32) : Fin 2 → Nat :=
  let v2962 : BitVec 32 := v2961
  let c0_i32_1780 : BitVec 32 := 0#32
  ![v2962.toNat, 0]

def k0_chk707 (i : grid0.Coords) (v2961 : BitVec 32) : Prop :=
  (∀ (k0_h3 : k0_cond3 i = 1#1), 8 ∣ (k0_mult1413 v2961).toNat) ∧
  (∀ (k0_h3 : k0_cond3 i = 1#1), ∀ a, (k0_off2845 v2961) a + S8x128.size a ≤ S131072x128.size a)
theorem k0_mult1413_dvd : ∀ (i : grid0.Coords) (v2961 : BitVec 32) (k0_hw707 : k0_chk707 i v2961), ∀ (k0_h3 : k0_cond3 i = 1#1), 8 ∣ (k0_mult1413 v2961).toNat := fun i v2961 k0_hw707 k0_h3 => k0_hw707.1 k0_h3
theorem k0_off2845_inb : ∀ (i : grid0.Coords) (v2961 : BitVec 32) (k0_hw707 : k0_chk707 i v2961), ∀ (k0_h3 : k0_cond3 i = 1#1), ∀ a, (k0_off2845 v2961) a + S8x128.size a ≤ S131072x128.size a := fun i v2961 k0_hw707 k0_h3 => k0_hw707.2 k0_h3

def k0_off2846 (i : grid0.Coords) : Fin 3 → Nat :=
  let c0_1785 : Index := 0#32
  let c0_1786 : Index := 0#32
  let arg1 : BitVec 32 := BitVec.ofNat 32 (i 1).val
  let c2_i32_1781 : BitVec 32 := 2#32
  let v2970 : BitVec 32 := Scalar.muli arg1 c2_i32_1781
  let c0_i32_1782 : BitVec 32 := 0#32
  let v2971 : BitVec 32 := Scalar.addi v2970 c0_i32_1782
  let c256_i32_1783 : BitVec 32 := 256#32
  let v2972 : BitVec 32 := Scalar.muli v2971 c256_i32_1783
  let c194_i32 : BitVec 32 := 194#32
  let v2973 : BitVec 32 := Scalar.addi v2972 c194_i32
  let v2975 : Index := Scalar.indexCast v2973
  ![0, 0, v2975.toNat]
def k0_mult1415 (v2976 : BitVec 32) : BitVec 32 :=
  v2976

def k0_mult1416 (i : grid0.Coords) : BitVec 32 :=
  let arg1 : BitVec 32 := BitVec.ofNat 32 (i 1).val
  let c2_i32_1781 : BitVec 32 := 2#32
  let v2970 : BitVec 32 := Scalar.muli arg1 c2_i32_1781
  let c0_i32_1782 : BitVec 32 := 0#32
  let v2971 : BitVec 32 := Scalar.addi v2970 c0_i32_1782
  let c256_i32_1783 : BitVec 32 := 256#32
  let v2972 : BitVec 32 := Scalar.muli v2971 c256_i32_1783
  let c194_i32 : BitVec 32 := 194#32
  let v2973 : BitVec 32 := Scalar.addi v2972 c194_i32
  let c8_i32_1787 : BitVec 32 := 8#32
  let v2978 : BitVec 32 := Scalar.muli v2973 c8_i32_1787
  v2978
def k0_off2847 (i : grid0.Coords) : Fin 1 → Nat :=
  let c1_i32_1784 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2974 : BitVec 32 := Scalar.subi c1_i32_1784 v9
  ![v2974.toNat]
def k0_off2848 (i : grid0.Coords) : Fin 3 → Nat :=
  let c1_i32_1784 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2974 : BitVec 32 := Scalar.subi c1_i32_1784 v9
  let arg1 : BitVec 32 := BitVec.ofNat 32 (i 1).val
  let c2_i32_1781 : BitVec 32 := 2#32
  let v2970 : BitVec 32 := Scalar.muli arg1 c2_i32_1781
  let c0_i32_1782 : BitVec 32 := 0#32
  let v2971 : BitVec 32 := Scalar.addi v2970 c0_i32_1782
  let c256_i32_1783 : BitVec 32 := 256#32
  let v2972 : BitVec 32 := Scalar.muli v2971 c256_i32_1783
  let c194_i32 : BitVec 32 := 194#32
  let v2973 : BitVec 32 := Scalar.addi v2972 c194_i32
  let c8_i32_1787 : BitVec 32 := 8#32
  let v2978 : BitVec 32 := Scalar.muli v2973 c8_i32_1787
  let v2979 : BitVec 32 := v2978
  let c0_i32_1788 : BitVec 32 := 0#32
  ![v2974.toNat, v2979.toNat, 0]
def k0_off2849 (v2976 : BitVec 32) : Fin 2 → Nat :=
  let v2977 : BitVec 32 := v2976
  let c0_i32_1789 : BitVec 32 := 0#32
  ![v2977.toNat, 0]

def k0_chk708 (i : grid0.Coords) (v2976 : BitVec 32) : Prop :=
  (∀ (k0_h3 : k0_cond3 i = 1#1), 8 ∣ (k0_mult1415 v2976).toNat) ∧
  (∀ (k0_h3 : k0_cond3 i = 1#1), ∀ a, (k0_off2849 v2976) a + S8x128.size a ≤ S131072x128.size a)
theorem k0_mult1415_dvd : ∀ (i : grid0.Coords) (v2976 : BitVec 32) (k0_hw708 : k0_chk708 i v2976), ∀ (k0_h3 : k0_cond3 i = 1#1), 8 ∣ (k0_mult1415 v2976).toNat := fun i v2976 k0_hw708 k0_h3 => k0_hw708.1 k0_h3
theorem k0_off2849_inb : ∀ (i : grid0.Coords) (v2976 : BitVec 32) (k0_hw708 : k0_chk708 i v2976), ∀ (k0_h3 : k0_cond3 i = 1#1), ∀ a, (k0_off2849 v2976) a + S8x128.size a ≤ S131072x128.size a := fun i v2976 k0_hw708 k0_h3 => k0_hw708.2 k0_h3

def k0_off2850 (i : grid0.Coords) : Fin 3 → Nat :=
  let c0_1794 : Index := 0#32
  let c0_1795 : Index := 0#32
  let arg1 : BitVec 32 := BitVec.ofNat 32 (i 1).val
  let c2_i32_1790 : BitVec 32 := 2#32
  let v2985 : BitVec 32 := Scalar.muli arg1 c2_i32_1790
  let c0_i32_1791 : BitVec 32 := 0#32
  let v2986 : BitVec 32 := Scalar.addi v2985 c0_i32_1791
  let c256_i32_1792 : BitVec 32 := 256#32
  let v2987 : BitVec 32 := Scalar.muli v2986 c256_i32_1792
  let c195_i32 : BitVec 32 := 195#32
  let v2988 : BitVec 32 := Scalar.addi v2987 c195_i32
  let v2990 : Index := Scalar.indexCast v2988
  ![0, 0, v2990.toNat]
def k0_mult1417 (v2991 : BitVec 32) : BitVec 32 :=
  v2991

def k0_mult1418 (i : grid0.Coords) : BitVec 32 :=
  let arg1 : BitVec 32 := BitVec.ofNat 32 (i 1).val
  let c2_i32_1790 : BitVec 32 := 2#32
  let v2985 : BitVec 32 := Scalar.muli arg1 c2_i32_1790
  let c0_i32_1791 : BitVec 32 := 0#32
  let v2986 : BitVec 32 := Scalar.addi v2985 c0_i32_1791
  let c256_i32_1792 : BitVec 32 := 256#32
  let v2987 : BitVec 32 := Scalar.muli v2986 c256_i32_1792
  let c195_i32 : BitVec 32 := 195#32
  let v2988 : BitVec 32 := Scalar.addi v2987 c195_i32
  let c8_i32_1796 : BitVec 32 := 8#32
  let v2993 : BitVec 32 := Scalar.muli v2988 c8_i32_1796
  v2993
def k0_off2851 (i : grid0.Coords) : Fin 1 → Nat :=
  let c1_i32_1793 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2989 : BitVec 32 := Scalar.subi c1_i32_1793 v9
  ![v2989.toNat]
def k0_off2852 (i : grid0.Coords) : Fin 3 → Nat :=
  let c1_i32_1793 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v2989 : BitVec 32 := Scalar.subi c1_i32_1793 v9
  let arg1 : BitVec 32 := BitVec.ofNat 32 (i 1).val
  let c2_i32_1790 : BitVec 32 := 2#32
  let v2985 : BitVec 32 := Scalar.muli arg1 c2_i32_1790
  let c0_i32_1791 : BitVec 32 := 0#32
  let v2986 : BitVec 32 := Scalar.addi v2985 c0_i32_1791
  let c256_i32_1792 : BitVec 32 := 256#32
  let v2987 : BitVec 32 := Scalar.muli v2986 c256_i32_1792
  let c195_i32 : BitVec 32 := 195#32
  let v2988 : BitVec 32 := Scalar.addi v2987 c195_i32
  let c8_i32_1796 : BitVec 32 := 8#32
  let v2993 : BitVec 32 := Scalar.muli v2988 c8_i32_1796
  let v2994 : BitVec 32 := v2993
  let c0_i32_1797 : BitVec 32 := 0#32
  ![v2989.toNat, v2994.toNat, 0]
def k0_off2853 (v2991 : BitVec 32) : Fin 2 → Nat :=
  let v2992 : BitVec 32 := v2991
  let c0_i32_1798 : BitVec 32 := 0#32
  ![v2992.toNat, 0]

def k0_chk709 (i : grid0.Coords) (v2991 : BitVec 32) : Prop :=
  (∀ (k0_h3 : k0_cond3 i = 1#1), 8 ∣ (k0_mult1417 v2991).toNat) ∧
  (∀ (k0_h3 : k0_cond3 i = 1#1), ∀ a, (k0_off2853 v2991) a + S8x128.size a ≤ S131072x128.size a)
theorem k0_mult1417_dvd : ∀ (i : grid0.Coords) (v2991 : BitVec 32) (k0_hw709 : k0_chk709 i v2991), ∀ (k0_h3 : k0_cond3 i = 1#1), 8 ∣ (k0_mult1417 v2991).toNat := fun i v2991 k0_hw709 k0_h3 => k0_hw709.1 k0_h3
theorem k0_off2853_inb : ∀ (i : grid0.Coords) (v2991 : BitVec 32) (k0_hw709 : k0_chk709 i v2991), ∀ (k0_h3 : k0_cond3 i = 1#1), ∀ a, (k0_off2853 v2991) a + S8x128.size a ≤ S131072x128.size a := fun i v2991 k0_hw709 k0_h3 => k0_hw709.2 k0_h3

def k0_off2854 (i : grid0.Coords) : Fin 3 → Nat :=
  let c0_1803 : Index := 0#32
  let c0_1804 : Index := 0#32
  let arg1 : BitVec 32 := BitVec.ofNat 32 (i 1).val
  let c2_i32_1799 : BitVec 32 := 2#32
  let v3000 : BitVec 32 := Scalar.muli arg1 c2_i32_1799
  let c0_i32_1800 : BitVec 32 := 0#32
  let v3001 : BitVec 32 := Scalar.addi v3000 c0_i32_1800
  let c256_i32_1801 : BitVec 32 := 256#32
  let v3002 : BitVec 32 := Scalar.muli v3001 c256_i32_1801
  let c196_i32 : BitVec 32 := 196#32
  let v3003 : BitVec 32 := Scalar.addi v3002 c196_i32
  let v3005 : Index := Scalar.indexCast v3003
  ![0, 0, v3005.toNat]
def k0_mult1419 (v3006 : BitVec 32) : BitVec 32 :=
  v3006

def k0_mult1420 (i : grid0.Coords) : BitVec 32 :=
  let arg1 : BitVec 32 := BitVec.ofNat 32 (i 1).val
  let c2_i32_1799 : BitVec 32 := 2#32
  let v3000 : BitVec 32 := Scalar.muli arg1 c2_i32_1799
  let c0_i32_1800 : BitVec 32 := 0#32
  let v3001 : BitVec 32 := Scalar.addi v3000 c0_i32_1800
  let c256_i32_1801 : BitVec 32 := 256#32
  let v3002 : BitVec 32 := Scalar.muli v3001 c256_i32_1801
  let c196_i32 : BitVec 32 := 196#32
  let v3003 : BitVec 32 := Scalar.addi v3002 c196_i32
  let c8_i32_1805 : BitVec 32 := 8#32
  let v3008 : BitVec 32 := Scalar.muli v3003 c8_i32_1805
  v3008
def k0_off2855 (i : grid0.Coords) : Fin 1 → Nat :=
  let c1_i32_1802 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3004 : BitVec 32 := Scalar.subi c1_i32_1802 v9
  ![v3004.toNat]
def k0_off2856 (i : grid0.Coords) : Fin 3 → Nat :=
  let c1_i32_1802 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3004 : BitVec 32 := Scalar.subi c1_i32_1802 v9
  let arg1 : BitVec 32 := BitVec.ofNat 32 (i 1).val
  let c2_i32_1799 : BitVec 32 := 2#32
  let v3000 : BitVec 32 := Scalar.muli arg1 c2_i32_1799
  let c0_i32_1800 : BitVec 32 := 0#32
  let v3001 : BitVec 32 := Scalar.addi v3000 c0_i32_1800
  let c256_i32_1801 : BitVec 32 := 256#32
  let v3002 : BitVec 32 := Scalar.muli v3001 c256_i32_1801
  let c196_i32 : BitVec 32 := 196#32
  let v3003 : BitVec 32 := Scalar.addi v3002 c196_i32
  let c8_i32_1805 : BitVec 32 := 8#32
  let v3008 : BitVec 32 := Scalar.muli v3003 c8_i32_1805
  let v3009 : BitVec 32 := v3008
  let c0_i32_1806 : BitVec 32 := 0#32
  ![v3004.toNat, v3009.toNat, 0]
def k0_off2857 (v3006 : BitVec 32) : Fin 2 → Nat :=
  let v3007 : BitVec 32 := v3006
  let c0_i32_1807 : BitVec 32 := 0#32
  ![v3007.toNat, 0]

def k0_chk710 (i : grid0.Coords) (v3006 : BitVec 32) : Prop :=
  (∀ (k0_h3 : k0_cond3 i = 1#1), 8 ∣ (k0_mult1419 v3006).toNat) ∧
  (∀ (k0_h3 : k0_cond3 i = 1#1), ∀ a, (k0_off2857 v3006) a + S8x128.size a ≤ S131072x128.size a)
theorem k0_mult1419_dvd : ∀ (i : grid0.Coords) (v3006 : BitVec 32) (k0_hw710 : k0_chk710 i v3006), ∀ (k0_h3 : k0_cond3 i = 1#1), 8 ∣ (k0_mult1419 v3006).toNat := fun i v3006 k0_hw710 k0_h3 => k0_hw710.1 k0_h3
theorem k0_off2857_inb : ∀ (i : grid0.Coords) (v3006 : BitVec 32) (k0_hw710 : k0_chk710 i v3006), ∀ (k0_h3 : k0_cond3 i = 1#1), ∀ a, (k0_off2857 v3006) a + S8x128.size a ≤ S131072x128.size a := fun i v3006 k0_hw710 k0_h3 => k0_hw710.2 k0_h3

def k0_off2858 (i : grid0.Coords) : Fin 3 → Nat :=
  let c0_1812 : Index := 0#32
  let c0_1813 : Index := 0#32
  let arg1 : BitVec 32 := BitVec.ofNat 32 (i 1).val
  let c2_i32_1808 : BitVec 32 := 2#32
  let v3015 : BitVec 32 := Scalar.muli arg1 c2_i32_1808
  let c0_i32_1809 : BitVec 32 := 0#32
  let v3016 : BitVec 32 := Scalar.addi v3015 c0_i32_1809
  let c256_i32_1810 : BitVec 32 := 256#32
  let v3017 : BitVec 32 := Scalar.muli v3016 c256_i32_1810
  let c197_i32 : BitVec 32 := 197#32
  let v3018 : BitVec 32 := Scalar.addi v3017 c197_i32
  let v3020 : Index := Scalar.indexCast v3018
  ![0, 0, v3020.toNat]
def k0_mult1421 (v3021 : BitVec 32) : BitVec 32 :=
  v3021

def k0_mult1422 (i : grid0.Coords) : BitVec 32 :=
  let arg1 : BitVec 32 := BitVec.ofNat 32 (i 1).val
  let c2_i32_1808 : BitVec 32 := 2#32
  let v3015 : BitVec 32 := Scalar.muli arg1 c2_i32_1808
  let c0_i32_1809 : BitVec 32 := 0#32
  let v3016 : BitVec 32 := Scalar.addi v3015 c0_i32_1809
  let c256_i32_1810 : BitVec 32 := 256#32
  let v3017 : BitVec 32 := Scalar.muli v3016 c256_i32_1810
  let c197_i32 : BitVec 32 := 197#32
  let v3018 : BitVec 32 := Scalar.addi v3017 c197_i32
  let c8_i32_1814 : BitVec 32 := 8#32
  let v3023 : BitVec 32 := Scalar.muli v3018 c8_i32_1814
  v3023
def k0_off2859 (i : grid0.Coords) : Fin 1 → Nat :=
  let c1_i32_1811 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3019 : BitVec 32 := Scalar.subi c1_i32_1811 v9
  ![v3019.toNat]
def k0_off2860 (i : grid0.Coords) : Fin 3 → Nat :=
  let c1_i32_1811 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3019 : BitVec 32 := Scalar.subi c1_i32_1811 v9
  let arg1 : BitVec 32 := BitVec.ofNat 32 (i 1).val
  let c2_i32_1808 : BitVec 32 := 2#32
  let v3015 : BitVec 32 := Scalar.muli arg1 c2_i32_1808
  let c0_i32_1809 : BitVec 32 := 0#32
  let v3016 : BitVec 32 := Scalar.addi v3015 c0_i32_1809
  let c256_i32_1810 : BitVec 32 := 256#32
  let v3017 : BitVec 32 := Scalar.muli v3016 c256_i32_1810
  let c197_i32 : BitVec 32 := 197#32
  let v3018 : BitVec 32 := Scalar.addi v3017 c197_i32
  let c8_i32_1814 : BitVec 32 := 8#32
  let v3023 : BitVec 32 := Scalar.muli v3018 c8_i32_1814
  let v3024 : BitVec 32 := v3023
  let c0_i32_1815 : BitVec 32 := 0#32
  ![v3019.toNat, v3024.toNat, 0]
def k0_off2861 (v3021 : BitVec 32) : Fin 2 → Nat :=
  let v3022 : BitVec 32 := v3021
  let c0_i32_1816 : BitVec 32 := 0#32
  ![v3022.toNat, 0]

def k0_chk711 (i : grid0.Coords) (v3021 : BitVec 32) : Prop :=
  (∀ (k0_h3 : k0_cond3 i = 1#1), 8 ∣ (k0_mult1421 v3021).toNat) ∧
  (∀ (k0_h3 : k0_cond3 i = 1#1), ∀ a, (k0_off2861 v3021) a + S8x128.size a ≤ S131072x128.size a)
theorem k0_mult1421_dvd : ∀ (i : grid0.Coords) (v3021 : BitVec 32) (k0_hw711 : k0_chk711 i v3021), ∀ (k0_h3 : k0_cond3 i = 1#1), 8 ∣ (k0_mult1421 v3021).toNat := fun i v3021 k0_hw711 k0_h3 => k0_hw711.1 k0_h3
theorem k0_off2861_inb : ∀ (i : grid0.Coords) (v3021 : BitVec 32) (k0_hw711 : k0_chk711 i v3021), ∀ (k0_h3 : k0_cond3 i = 1#1), ∀ a, (k0_off2861 v3021) a + S8x128.size a ≤ S131072x128.size a := fun i v3021 k0_hw711 k0_h3 => k0_hw711.2 k0_h3

def k0_off2862 (i : grid0.Coords) : Fin 3 → Nat :=
  let c0_1821 : Index := 0#32
  let c0_1822 : Index := 0#32
  let arg1 : BitVec 32 := BitVec.ofNat 32 (i 1).val
  let c2_i32_1817 : BitVec 32 := 2#32
  let v3030 : BitVec 32 := Scalar.muli arg1 c2_i32_1817
  let c0_i32_1818 : BitVec 32 := 0#32
  let v3031 : BitVec 32 := Scalar.addi v3030 c0_i32_1818
  let c256_i32_1819 : BitVec 32 := 256#32
  let v3032 : BitVec 32 := Scalar.muli v3031 c256_i32_1819
  let c198_i32 : BitVec 32 := 198#32
  let v3033 : BitVec 32 := Scalar.addi v3032 c198_i32
  let v3035 : Index := Scalar.indexCast v3033
  ![0, 0, v3035.toNat]
def k0_mult1423 (v3036 : BitVec 32) : BitVec 32 :=
  v3036

def k0_mult1424 (i : grid0.Coords) : BitVec 32 :=
  let arg1 : BitVec 32 := BitVec.ofNat 32 (i 1).val
  let c2_i32_1817 : BitVec 32 := 2#32
  let v3030 : BitVec 32 := Scalar.muli arg1 c2_i32_1817
  let c0_i32_1818 : BitVec 32 := 0#32
  let v3031 : BitVec 32 := Scalar.addi v3030 c0_i32_1818
  let c256_i32_1819 : BitVec 32 := 256#32
  let v3032 : BitVec 32 := Scalar.muli v3031 c256_i32_1819
  let c198_i32 : BitVec 32 := 198#32
  let v3033 : BitVec 32 := Scalar.addi v3032 c198_i32
  let c8_i32_1823 : BitVec 32 := 8#32
  let v3038 : BitVec 32 := Scalar.muli v3033 c8_i32_1823
  v3038
def k0_off2863 (i : grid0.Coords) : Fin 1 → Nat :=
  let c1_i32_1820 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3034 : BitVec 32 := Scalar.subi c1_i32_1820 v9
  ![v3034.toNat]
def k0_off2864 (i : grid0.Coords) : Fin 3 → Nat :=
  let c1_i32_1820 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3034 : BitVec 32 := Scalar.subi c1_i32_1820 v9
  let arg1 : BitVec 32 := BitVec.ofNat 32 (i 1).val
  let c2_i32_1817 : BitVec 32 := 2#32
  let v3030 : BitVec 32 := Scalar.muli arg1 c2_i32_1817
  let c0_i32_1818 : BitVec 32 := 0#32
  let v3031 : BitVec 32 := Scalar.addi v3030 c0_i32_1818
  let c256_i32_1819 : BitVec 32 := 256#32
  let v3032 : BitVec 32 := Scalar.muli v3031 c256_i32_1819
  let c198_i32 : BitVec 32 := 198#32
  let v3033 : BitVec 32 := Scalar.addi v3032 c198_i32
  let c8_i32_1823 : BitVec 32 := 8#32
  let v3038 : BitVec 32 := Scalar.muli v3033 c8_i32_1823
  let v3039 : BitVec 32 := v3038
  let c0_i32_1824 : BitVec 32 := 0#32
  ![v3034.toNat, v3039.toNat, 0]
def k0_off2865 (v3036 : BitVec 32) : Fin 2 → Nat :=
  let v3037 : BitVec 32 := v3036
  let c0_i32_1825 : BitVec 32 := 0#32
  ![v3037.toNat, 0]

def k0_chk712 (i : grid0.Coords) (v3036 : BitVec 32) : Prop :=
  (∀ (k0_h3 : k0_cond3 i = 1#1), 8 ∣ (k0_mult1423 v3036).toNat) ∧
  (∀ (k0_h3 : k0_cond3 i = 1#1), ∀ a, (k0_off2865 v3036) a + S8x128.size a ≤ S131072x128.size a)
theorem k0_mult1423_dvd : ∀ (i : grid0.Coords) (v3036 : BitVec 32) (k0_hw712 : k0_chk712 i v3036), ∀ (k0_h3 : k0_cond3 i = 1#1), 8 ∣ (k0_mult1423 v3036).toNat := fun i v3036 k0_hw712 k0_h3 => k0_hw712.1 k0_h3
theorem k0_off2865_inb : ∀ (i : grid0.Coords) (v3036 : BitVec 32) (k0_hw712 : k0_chk712 i v3036), ∀ (k0_h3 : k0_cond3 i = 1#1), ∀ a, (k0_off2865 v3036) a + S8x128.size a ≤ S131072x128.size a := fun i v3036 k0_hw712 k0_h3 => k0_hw712.2 k0_h3

def k0_off2866 (i : grid0.Coords) : Fin 3 → Nat :=
  let c0_1830 : Index := 0#32
  let c0_1831 : Index := 0#32
  let arg1 : BitVec 32 := BitVec.ofNat 32 (i 1).val
  let c2_i32_1826 : BitVec 32 := 2#32
  let v3045 : BitVec 32 := Scalar.muli arg1 c2_i32_1826
  let c0_i32_1827 : BitVec 32 := 0#32
  let v3046 : BitVec 32 := Scalar.addi v3045 c0_i32_1827
  let c256_i32_1828 : BitVec 32 := 256#32
  let v3047 : BitVec 32 := Scalar.muli v3046 c256_i32_1828
  let c199_i32 : BitVec 32 := 199#32
  let v3048 : BitVec 32 := Scalar.addi v3047 c199_i32
  let v3050 : Index := Scalar.indexCast v3048
  ![0, 0, v3050.toNat]
def k0_mult1425 (v3051 : BitVec 32) : BitVec 32 :=
  v3051

def k0_mult1426 (i : grid0.Coords) : BitVec 32 :=
  let arg1 : BitVec 32 := BitVec.ofNat 32 (i 1).val
  let c2_i32_1826 : BitVec 32 := 2#32
  let v3045 : BitVec 32 := Scalar.muli arg1 c2_i32_1826
  let c0_i32_1827 : BitVec 32 := 0#32
  let v3046 : BitVec 32 := Scalar.addi v3045 c0_i32_1827
  let c256_i32_1828 : BitVec 32 := 256#32
  let v3047 : BitVec 32 := Scalar.muli v3046 c256_i32_1828
  let c199_i32 : BitVec 32 := 199#32
  let v3048 : BitVec 32 := Scalar.addi v3047 c199_i32
  let c8_i32_1832 : BitVec 32 := 8#32
  let v3053 : BitVec 32 := Scalar.muli v3048 c8_i32_1832
  v3053
def k0_off2867 (i : grid0.Coords) : Fin 1 → Nat :=
  let c1_i32_1829 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3049 : BitVec 32 := Scalar.subi c1_i32_1829 v9
  ![v3049.toNat]
def k0_off2868 (i : grid0.Coords) : Fin 3 → Nat :=
  let c1_i32_1829 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3049 : BitVec 32 := Scalar.subi c1_i32_1829 v9
  let arg1 : BitVec 32 := BitVec.ofNat 32 (i 1).val
  let c2_i32_1826 : BitVec 32 := 2#32
  let v3045 : BitVec 32 := Scalar.muli arg1 c2_i32_1826
  let c0_i32_1827 : BitVec 32 := 0#32
  let v3046 : BitVec 32 := Scalar.addi v3045 c0_i32_1827
  let c256_i32_1828 : BitVec 32 := 256#32
  let v3047 : BitVec 32 := Scalar.muli v3046 c256_i32_1828
  let c199_i32 : BitVec 32 := 199#32
  let v3048 : BitVec 32 := Scalar.addi v3047 c199_i32
  let c8_i32_1832 : BitVec 32 := 8#32
  let v3053 : BitVec 32 := Scalar.muli v3048 c8_i32_1832
  let v3054 : BitVec 32 := v3053
  let c0_i32_1833 : BitVec 32 := 0#32
  ![v3049.toNat, v3054.toNat, 0]
def k0_off2869 (v3051 : BitVec 32) : Fin 2 → Nat :=
  let v3052 : BitVec 32 := v3051
  let c0_i32_1834 : BitVec 32 := 0#32
  ![v3052.toNat, 0]

def k0_chk713 (i : grid0.Coords) (v3051 : BitVec 32) : Prop :=
  (∀ (k0_h3 : k0_cond3 i = 1#1), 8 ∣ (k0_mult1425 v3051).toNat) ∧
  (∀ (k0_h3 : k0_cond3 i = 1#1), ∀ a, (k0_off2869 v3051) a + S8x128.size a ≤ S131072x128.size a)
theorem k0_mult1425_dvd : ∀ (i : grid0.Coords) (v3051 : BitVec 32) (k0_hw713 : k0_chk713 i v3051), ∀ (k0_h3 : k0_cond3 i = 1#1), 8 ∣ (k0_mult1425 v3051).toNat := fun i v3051 k0_hw713 k0_h3 => k0_hw713.1 k0_h3
theorem k0_off2869_inb : ∀ (i : grid0.Coords) (v3051 : BitVec 32) (k0_hw713 : k0_chk713 i v3051), ∀ (k0_h3 : k0_cond3 i = 1#1), ∀ a, (k0_off2869 v3051) a + S8x128.size a ≤ S131072x128.size a := fun i v3051 k0_hw713 k0_h3 => k0_hw713.2 k0_h3

def k0_off2870 (i : grid0.Coords) : Fin 3 → Nat :=
  let c0_1839 : Index := 0#32
  let c0_1840 : Index := 0#32
  let arg1 : BitVec 32 := BitVec.ofNat 32 (i 1).val
  let c2_i32_1835 : BitVec 32 := 2#32
  let v3060 : BitVec 32 := Scalar.muli arg1 c2_i32_1835
  let c0_i32_1836 : BitVec 32 := 0#32
  let v3061 : BitVec 32 := Scalar.addi v3060 c0_i32_1836
  let c256_i32_1837 : BitVec 32 := 256#32
  let v3062 : BitVec 32 := Scalar.muli v3061 c256_i32_1837
  let c200_i32 : BitVec 32 := 200#32
  let v3063 : BitVec 32 := Scalar.addi v3062 c200_i32
  let v3065 : Index := Scalar.indexCast v3063
  ![0, 0, v3065.toNat]
def k0_mult1427 (v3066 : BitVec 32) : BitVec 32 :=
  v3066

def k0_mult1428 (i : grid0.Coords) : BitVec 32 :=
  let arg1 : BitVec 32 := BitVec.ofNat 32 (i 1).val
  let c2_i32_1835 : BitVec 32 := 2#32
  let v3060 : BitVec 32 := Scalar.muli arg1 c2_i32_1835
  let c0_i32_1836 : BitVec 32 := 0#32
  let v3061 : BitVec 32 := Scalar.addi v3060 c0_i32_1836
  let c256_i32_1837 : BitVec 32 := 256#32
  let v3062 : BitVec 32 := Scalar.muli v3061 c256_i32_1837
  let c200_i32 : BitVec 32 := 200#32
  let v3063 : BitVec 32 := Scalar.addi v3062 c200_i32
  let c8_i32_1841 : BitVec 32 := 8#32
  let v3068 : BitVec 32 := Scalar.muli v3063 c8_i32_1841
  v3068
def k0_off2871 (i : grid0.Coords) : Fin 1 → Nat :=
  let c1_i32_1838 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3064 : BitVec 32 := Scalar.subi c1_i32_1838 v9
  ![v3064.toNat]
def k0_off2872 (i : grid0.Coords) : Fin 3 → Nat :=
  let c1_i32_1838 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3064 : BitVec 32 := Scalar.subi c1_i32_1838 v9
  let arg1 : BitVec 32 := BitVec.ofNat 32 (i 1).val
  let c2_i32_1835 : BitVec 32 := 2#32
  let v3060 : BitVec 32 := Scalar.muli arg1 c2_i32_1835
  let c0_i32_1836 : BitVec 32 := 0#32
  let v3061 : BitVec 32 := Scalar.addi v3060 c0_i32_1836
  let c256_i32_1837 : BitVec 32 := 256#32
  let v3062 : BitVec 32 := Scalar.muli v3061 c256_i32_1837
  let c200_i32 : BitVec 32 := 200#32
  let v3063 : BitVec 32 := Scalar.addi v3062 c200_i32
  let c8_i32_1841 : BitVec 32 := 8#32
  let v3068 : BitVec 32 := Scalar.muli v3063 c8_i32_1841
  let v3069 : BitVec 32 := v3068
  let c0_i32_1842 : BitVec 32 := 0#32
  ![v3064.toNat, v3069.toNat, 0]
def k0_off2873 (v3066 : BitVec 32) : Fin 2 → Nat :=
  let v3067 : BitVec 32 := v3066
  let c0_i32_1843 : BitVec 32 := 0#32
  ![v3067.toNat, 0]

def k0_chk714 (i : grid0.Coords) (v3066 : BitVec 32) : Prop :=
  (∀ (k0_h3 : k0_cond3 i = 1#1), 8 ∣ (k0_mult1427 v3066).toNat) ∧
  (∀ (k0_h3 : k0_cond3 i = 1#1), ∀ a, (k0_off2873 v3066) a + S8x128.size a ≤ S131072x128.size a)
theorem k0_mult1427_dvd : ∀ (i : grid0.Coords) (v3066 : BitVec 32) (k0_hw714 : k0_chk714 i v3066), ∀ (k0_h3 : k0_cond3 i = 1#1), 8 ∣ (k0_mult1427 v3066).toNat := fun i v3066 k0_hw714 k0_h3 => k0_hw714.1 k0_h3
theorem k0_off2873_inb : ∀ (i : grid0.Coords) (v3066 : BitVec 32) (k0_hw714 : k0_chk714 i v3066), ∀ (k0_h3 : k0_cond3 i = 1#1), ∀ a, (k0_off2873 v3066) a + S8x128.size a ≤ S131072x128.size a := fun i v3066 k0_hw714 k0_h3 => k0_hw714.2 k0_h3

def k0_off2874 (i : grid0.Coords) : Fin 3 → Nat :=
  let c0_1848 : Index := 0#32
  let c0_1849 : Index := 0#32
  let arg1 : BitVec 32 := BitVec.ofNat 32 (i 1).val
  let c2_i32_1844 : BitVec 32 := 2#32
  let v3075 : BitVec 32 := Scalar.muli arg1 c2_i32_1844
  let c0_i32_1845 : BitVec 32 := 0#32
  let v3076 : BitVec 32 := Scalar.addi v3075 c0_i32_1845
  let c256_i32_1846 : BitVec 32 := 256#32
  let v3077 : BitVec 32 := Scalar.muli v3076 c256_i32_1846
  let c201_i32 : BitVec 32 := 201#32
  let v3078 : BitVec 32 := Scalar.addi v3077 c201_i32
  let v3080 : Index := Scalar.indexCast v3078
  ![0, 0, v3080.toNat]
def k0_mult1429 (v3081 : BitVec 32) : BitVec 32 :=
  v3081

def k0_mult1430 (i : grid0.Coords) : BitVec 32 :=
  let arg1 : BitVec 32 := BitVec.ofNat 32 (i 1).val
  let c2_i32_1844 : BitVec 32 := 2#32
  let v3075 : BitVec 32 := Scalar.muli arg1 c2_i32_1844
  let c0_i32_1845 : BitVec 32 := 0#32
  let v3076 : BitVec 32 := Scalar.addi v3075 c0_i32_1845
  let c256_i32_1846 : BitVec 32 := 256#32
  let v3077 : BitVec 32 := Scalar.muli v3076 c256_i32_1846
  let c201_i32 : BitVec 32 := 201#32
  let v3078 : BitVec 32 := Scalar.addi v3077 c201_i32
  let c8_i32_1850 : BitVec 32 := 8#32
  let v3083 : BitVec 32 := Scalar.muli v3078 c8_i32_1850
  v3083
def k0_off2875 (i : grid0.Coords) : Fin 1 → Nat :=
  let c1_i32_1847 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3079 : BitVec 32 := Scalar.subi c1_i32_1847 v9
  ![v3079.toNat]
def k0_off2876 (i : grid0.Coords) : Fin 3 → Nat :=
  let c1_i32_1847 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3079 : BitVec 32 := Scalar.subi c1_i32_1847 v9
  let arg1 : BitVec 32 := BitVec.ofNat 32 (i 1).val
  let c2_i32_1844 : BitVec 32 := 2#32
  let v3075 : BitVec 32 := Scalar.muli arg1 c2_i32_1844
  let c0_i32_1845 : BitVec 32 := 0#32
  let v3076 : BitVec 32 := Scalar.addi v3075 c0_i32_1845
  let c256_i32_1846 : BitVec 32 := 256#32
  let v3077 : BitVec 32 := Scalar.muli v3076 c256_i32_1846
  let c201_i32 : BitVec 32 := 201#32
  let v3078 : BitVec 32 := Scalar.addi v3077 c201_i32
  let c8_i32_1850 : BitVec 32 := 8#32
  let v3083 : BitVec 32 := Scalar.muli v3078 c8_i32_1850
  let v3084 : BitVec 32 := v3083
  let c0_i32_1851 : BitVec 32 := 0#32
  ![v3079.toNat, v3084.toNat, 0]
def k0_off2877 (v3081 : BitVec 32) : Fin 2 → Nat :=
  let v3082 : BitVec 32 := v3081
  let c0_i32_1852 : BitVec 32 := 0#32
  ![v3082.toNat, 0]

def k0_chk715 (i : grid0.Coords) (v3081 : BitVec 32) : Prop :=
  (∀ (k0_h3 : k0_cond3 i = 1#1), 8 ∣ (k0_mult1429 v3081).toNat) ∧
  (∀ (k0_h3 : k0_cond3 i = 1#1), ∀ a, (k0_off2877 v3081) a + S8x128.size a ≤ S131072x128.size a)
theorem k0_mult1429_dvd : ∀ (i : grid0.Coords) (v3081 : BitVec 32) (k0_hw715 : k0_chk715 i v3081), ∀ (k0_h3 : k0_cond3 i = 1#1), 8 ∣ (k0_mult1429 v3081).toNat := fun i v3081 k0_hw715 k0_h3 => k0_hw715.1 k0_h3
theorem k0_off2877_inb : ∀ (i : grid0.Coords) (v3081 : BitVec 32) (k0_hw715 : k0_chk715 i v3081), ∀ (k0_h3 : k0_cond3 i = 1#1), ∀ a, (k0_off2877 v3081) a + S8x128.size a ≤ S131072x128.size a := fun i v3081 k0_hw715 k0_h3 => k0_hw715.2 k0_h3

def k0_off2878 (i : grid0.Coords) : Fin 3 → Nat :=
  let c0_1857 : Index := 0#32
  let c0_1858 : Index := 0#32
  let arg1 : BitVec 32 := BitVec.ofNat 32 (i 1).val
  let c2_i32_1853 : BitVec 32 := 2#32
  let v3090 : BitVec 32 := Scalar.muli arg1 c2_i32_1853
  let c0_i32_1854 : BitVec 32 := 0#32
  let v3091 : BitVec 32 := Scalar.addi v3090 c0_i32_1854
  let c256_i32_1855 : BitVec 32 := 256#32
  let v3092 : BitVec 32 := Scalar.muli v3091 c256_i32_1855
  let c202_i32 : BitVec 32 := 202#32
  let v3093 : BitVec 32 := Scalar.addi v3092 c202_i32
  let v3095 : Index := Scalar.indexCast v3093
  ![0, 0, v3095.toNat]
def k0_mult1431 (v3096 : BitVec 32) : BitVec 32 :=
  v3096

def k0_mult1432 (i : grid0.Coords) : BitVec 32 :=
  let arg1 : BitVec 32 := BitVec.ofNat 32 (i 1).val
  let c2_i32_1853 : BitVec 32 := 2#32
  let v3090 : BitVec 32 := Scalar.muli arg1 c2_i32_1853
  let c0_i32_1854 : BitVec 32 := 0#32
  let v3091 : BitVec 32 := Scalar.addi v3090 c0_i32_1854
  let c256_i32_1855 : BitVec 32 := 256#32
  let v3092 : BitVec 32 := Scalar.muli v3091 c256_i32_1855
  let c202_i32 : BitVec 32 := 202#32
  let v3093 : BitVec 32 := Scalar.addi v3092 c202_i32
  let c8_i32_1859 : BitVec 32 := 8#32
  let v3098 : BitVec 32 := Scalar.muli v3093 c8_i32_1859
  v3098
def k0_off2879 (i : grid0.Coords) : Fin 1 → Nat :=
  let c1_i32_1856 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3094 : BitVec 32 := Scalar.subi c1_i32_1856 v9
  ![v3094.toNat]
def k0_off2880 (i : grid0.Coords) : Fin 3 → Nat :=
  let c1_i32_1856 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3094 : BitVec 32 := Scalar.subi c1_i32_1856 v9
  let arg1 : BitVec 32 := BitVec.ofNat 32 (i 1).val
  let c2_i32_1853 : BitVec 32 := 2#32
  let v3090 : BitVec 32 := Scalar.muli arg1 c2_i32_1853
  let c0_i32_1854 : BitVec 32 := 0#32
  let v3091 : BitVec 32 := Scalar.addi v3090 c0_i32_1854
  let c256_i32_1855 : BitVec 32 := 256#32
  let v3092 : BitVec 32 := Scalar.muli v3091 c256_i32_1855
  let c202_i32 : BitVec 32 := 202#32
  let v3093 : BitVec 32 := Scalar.addi v3092 c202_i32
  let c8_i32_1859 : BitVec 32 := 8#32
  let v3098 : BitVec 32 := Scalar.muli v3093 c8_i32_1859
  let v3099 : BitVec 32 := v3098
  let c0_i32_1860 : BitVec 32 := 0#32
  ![v3094.toNat, v3099.toNat, 0]
def k0_off2881 (v3096 : BitVec 32) : Fin 2 → Nat :=
  let v3097 : BitVec 32 := v3096
  let c0_i32_1861 : BitVec 32 := 0#32
  ![v3097.toNat, 0]

def k0_chk716 (i : grid0.Coords) (v3096 : BitVec 32) : Prop :=
  (∀ (k0_h3 : k0_cond3 i = 1#1), 8 ∣ (k0_mult1431 v3096).toNat) ∧
  (∀ (k0_h3 : k0_cond3 i = 1#1), ∀ a, (k0_off2881 v3096) a + S8x128.size a ≤ S131072x128.size a)
theorem k0_mult1431_dvd : ∀ (i : grid0.Coords) (v3096 : BitVec 32) (k0_hw716 : k0_chk716 i v3096), ∀ (k0_h3 : k0_cond3 i = 1#1), 8 ∣ (k0_mult1431 v3096).toNat := fun i v3096 k0_hw716 k0_h3 => k0_hw716.1 k0_h3
theorem k0_off2881_inb : ∀ (i : grid0.Coords) (v3096 : BitVec 32) (k0_hw716 : k0_chk716 i v3096), ∀ (k0_h3 : k0_cond3 i = 1#1), ∀ a, (k0_off2881 v3096) a + S8x128.size a ≤ S131072x128.size a := fun i v3096 k0_hw716 k0_h3 => k0_hw716.2 k0_h3

def k0_off2882 (i : grid0.Coords) : Fin 3 → Nat :=
  let c0_1866 : Index := 0#32
  let c0_1867 : Index := 0#32
  let arg1 : BitVec 32 := BitVec.ofNat 32 (i 1).val
  let c2_i32_1862 : BitVec 32 := 2#32
  let v3105 : BitVec 32 := Scalar.muli arg1 c2_i32_1862
  let c0_i32_1863 : BitVec 32 := 0#32
  let v3106 : BitVec 32 := Scalar.addi v3105 c0_i32_1863
  let c256_i32_1864 : BitVec 32 := 256#32
  let v3107 : BitVec 32 := Scalar.muli v3106 c256_i32_1864
  let c203_i32 : BitVec 32 := 203#32
  let v3108 : BitVec 32 := Scalar.addi v3107 c203_i32
  let v3110 : Index := Scalar.indexCast v3108
  ![0, 0, v3110.toNat]
def k0_mult1433 (v3111 : BitVec 32) : BitVec 32 :=
  v3111

def k0_mult1434 (i : grid0.Coords) : BitVec 32 :=
  let arg1 : BitVec 32 := BitVec.ofNat 32 (i 1).val
  let c2_i32_1862 : BitVec 32 := 2#32
  let v3105 : BitVec 32 := Scalar.muli arg1 c2_i32_1862
  let c0_i32_1863 : BitVec 32 := 0#32
  let v3106 : BitVec 32 := Scalar.addi v3105 c0_i32_1863
  let c256_i32_1864 : BitVec 32 := 256#32
  let v3107 : BitVec 32 := Scalar.muli v3106 c256_i32_1864
  let c203_i32 : BitVec 32 := 203#32
  let v3108 : BitVec 32 := Scalar.addi v3107 c203_i32
  let c8_i32_1868 : BitVec 32 := 8#32
  let v3113 : BitVec 32 := Scalar.muli v3108 c8_i32_1868
  v3113
def k0_off2883 (i : grid0.Coords) : Fin 1 → Nat :=
  let c1_i32_1865 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3109 : BitVec 32 := Scalar.subi c1_i32_1865 v9
  ![v3109.toNat]
def k0_off2884 (i : grid0.Coords) : Fin 3 → Nat :=
  let c1_i32_1865 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3109 : BitVec 32 := Scalar.subi c1_i32_1865 v9
  let arg1 : BitVec 32 := BitVec.ofNat 32 (i 1).val
  let c2_i32_1862 : BitVec 32 := 2#32
  let v3105 : BitVec 32 := Scalar.muli arg1 c2_i32_1862
  let c0_i32_1863 : BitVec 32 := 0#32
  let v3106 : BitVec 32 := Scalar.addi v3105 c0_i32_1863
  let c256_i32_1864 : BitVec 32 := 256#32
  let v3107 : BitVec 32 := Scalar.muli v3106 c256_i32_1864
  let c203_i32 : BitVec 32 := 203#32
  let v3108 : BitVec 32 := Scalar.addi v3107 c203_i32
  let c8_i32_1868 : BitVec 32 := 8#32
  let v3113 : BitVec 32 := Scalar.muli v3108 c8_i32_1868
  let v3114 : BitVec 32 := v3113
  let c0_i32_1869 : BitVec 32 := 0#32
  ![v3109.toNat, v3114.toNat, 0]
def k0_off2885 (v3111 : BitVec 32) : Fin 2 → Nat :=
  let v3112 : BitVec 32 := v3111
  let c0_i32_1870 : BitVec 32 := 0#32
  ![v3112.toNat, 0]

def k0_chk717 (i : grid0.Coords) (v3111 : BitVec 32) : Prop :=
  (∀ (k0_h3 : k0_cond3 i = 1#1), 8 ∣ (k0_mult1433 v3111).toNat) ∧
  (∀ (k0_h3 : k0_cond3 i = 1#1), ∀ a, (k0_off2885 v3111) a + S8x128.size a ≤ S131072x128.size a)
theorem k0_mult1433_dvd : ∀ (i : grid0.Coords) (v3111 : BitVec 32) (k0_hw717 : k0_chk717 i v3111), ∀ (k0_h3 : k0_cond3 i = 1#1), 8 ∣ (k0_mult1433 v3111).toNat := fun i v3111 k0_hw717 k0_h3 => k0_hw717.1 k0_h3
theorem k0_off2885_inb : ∀ (i : grid0.Coords) (v3111 : BitVec 32) (k0_hw717 : k0_chk717 i v3111), ∀ (k0_h3 : k0_cond3 i = 1#1), ∀ a, (k0_off2885 v3111) a + S8x128.size a ≤ S131072x128.size a := fun i v3111 k0_hw717 k0_h3 => k0_hw717.2 k0_h3

def k0_off2886 (i : grid0.Coords) : Fin 3 → Nat :=
  let c0_1875 : Index := 0#32
  let c0_1876 : Index := 0#32
  let arg1 : BitVec 32 := BitVec.ofNat 32 (i 1).val
  let c2_i32_1871 : BitVec 32 := 2#32
  let v3120 : BitVec 32 := Scalar.muli arg1 c2_i32_1871
  let c0_i32_1872 : BitVec 32 := 0#32
  let v3121 : BitVec 32 := Scalar.addi v3120 c0_i32_1872
  let c256_i32_1873 : BitVec 32 := 256#32
  let v3122 : BitVec 32 := Scalar.muli v3121 c256_i32_1873
  let c204_i32 : BitVec 32 := 204#32
  let v3123 : BitVec 32 := Scalar.addi v3122 c204_i32
  let v3125 : Index := Scalar.indexCast v3123
  ![0, 0, v3125.toNat]
def k0_mult1435 (v3126 : BitVec 32) : BitVec 32 :=
  v3126

def k0_mult1436 (i : grid0.Coords) : BitVec 32 :=
  let arg1 : BitVec 32 := BitVec.ofNat 32 (i 1).val
  let c2_i32_1871 : BitVec 32 := 2#32
  let v3120 : BitVec 32 := Scalar.muli arg1 c2_i32_1871
  let c0_i32_1872 : BitVec 32 := 0#32
  let v3121 : BitVec 32 := Scalar.addi v3120 c0_i32_1872
  let c256_i32_1873 : BitVec 32 := 256#32
  let v3122 : BitVec 32 := Scalar.muli v3121 c256_i32_1873
  let c204_i32 : BitVec 32 := 204#32
  let v3123 : BitVec 32 := Scalar.addi v3122 c204_i32
  let c8_i32_1877 : BitVec 32 := 8#32
  let v3128 : BitVec 32 := Scalar.muli v3123 c8_i32_1877
  v3128
def k0_off2887 (i : grid0.Coords) : Fin 1 → Nat :=
  let c1_i32_1874 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3124 : BitVec 32 := Scalar.subi c1_i32_1874 v9
  ![v3124.toNat]
def k0_off2888 (i : grid0.Coords) : Fin 3 → Nat :=
  let c1_i32_1874 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3124 : BitVec 32 := Scalar.subi c1_i32_1874 v9
  let arg1 : BitVec 32 := BitVec.ofNat 32 (i 1).val
  let c2_i32_1871 : BitVec 32 := 2#32
  let v3120 : BitVec 32 := Scalar.muli arg1 c2_i32_1871
  let c0_i32_1872 : BitVec 32 := 0#32
  let v3121 : BitVec 32 := Scalar.addi v3120 c0_i32_1872
  let c256_i32_1873 : BitVec 32 := 256#32
  let v3122 : BitVec 32 := Scalar.muli v3121 c256_i32_1873
  let c204_i32 : BitVec 32 := 204#32
  let v3123 : BitVec 32 := Scalar.addi v3122 c204_i32
  let c8_i32_1877 : BitVec 32 := 8#32
  let v3128 : BitVec 32 := Scalar.muli v3123 c8_i32_1877
  let v3129 : BitVec 32 := v3128
  let c0_i32_1878 : BitVec 32 := 0#32
  ![v3124.toNat, v3129.toNat, 0]
def k0_off2889 (v3126 : BitVec 32) : Fin 2 → Nat :=
  let v3127 : BitVec 32 := v3126
  let c0_i32_1879 : BitVec 32 := 0#32
  ![v3127.toNat, 0]

def k0_chk718 (i : grid0.Coords) (v3126 : BitVec 32) : Prop :=
  (∀ (k0_h3 : k0_cond3 i = 1#1), 8 ∣ (k0_mult1435 v3126).toNat) ∧
  (∀ (k0_h3 : k0_cond3 i = 1#1), ∀ a, (k0_off2889 v3126) a + S8x128.size a ≤ S131072x128.size a)
theorem k0_mult1435_dvd : ∀ (i : grid0.Coords) (v3126 : BitVec 32) (k0_hw718 : k0_chk718 i v3126), ∀ (k0_h3 : k0_cond3 i = 1#1), 8 ∣ (k0_mult1435 v3126).toNat := fun i v3126 k0_hw718 k0_h3 => k0_hw718.1 k0_h3
theorem k0_off2889_inb : ∀ (i : grid0.Coords) (v3126 : BitVec 32) (k0_hw718 : k0_chk718 i v3126), ∀ (k0_h3 : k0_cond3 i = 1#1), ∀ a, (k0_off2889 v3126) a + S8x128.size a ≤ S131072x128.size a := fun i v3126 k0_hw718 k0_h3 => k0_hw718.2 k0_h3

def k0_off2890 (i : grid0.Coords) : Fin 3 → Nat :=
  let c0_1884 : Index := 0#32
  let c0_1885 : Index := 0#32
  let arg1 : BitVec 32 := BitVec.ofNat 32 (i 1).val
  let c2_i32_1880 : BitVec 32 := 2#32
  let v3135 : BitVec 32 := Scalar.muli arg1 c2_i32_1880
  let c0_i32_1881 : BitVec 32 := 0#32
  let v3136 : BitVec 32 := Scalar.addi v3135 c0_i32_1881
  let c256_i32_1882 : BitVec 32 := 256#32
  let v3137 : BitVec 32 := Scalar.muli v3136 c256_i32_1882
  let c205_i32 : BitVec 32 := 205#32
  let v3138 : BitVec 32 := Scalar.addi v3137 c205_i32
  let v3140 : Index := Scalar.indexCast v3138
  ![0, 0, v3140.toNat]
def k0_mult1437 (v3141 : BitVec 32) : BitVec 32 :=
  v3141

def k0_mult1438 (i : grid0.Coords) : BitVec 32 :=
  let arg1 : BitVec 32 := BitVec.ofNat 32 (i 1).val
  let c2_i32_1880 : BitVec 32 := 2#32
  let v3135 : BitVec 32 := Scalar.muli arg1 c2_i32_1880
  let c0_i32_1881 : BitVec 32 := 0#32
  let v3136 : BitVec 32 := Scalar.addi v3135 c0_i32_1881
  let c256_i32_1882 : BitVec 32 := 256#32
  let v3137 : BitVec 32 := Scalar.muli v3136 c256_i32_1882
  let c205_i32 : BitVec 32 := 205#32
  let v3138 : BitVec 32 := Scalar.addi v3137 c205_i32
  let c8_i32_1886 : BitVec 32 := 8#32
  let v3143 : BitVec 32 := Scalar.muli v3138 c8_i32_1886
  v3143
def k0_off2891 (i : grid0.Coords) : Fin 1 → Nat :=
  let c1_i32_1883 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3139 : BitVec 32 := Scalar.subi c1_i32_1883 v9
  ![v3139.toNat]
def k0_off2892 (i : grid0.Coords) : Fin 3 → Nat :=
  let c1_i32_1883 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3139 : BitVec 32 := Scalar.subi c1_i32_1883 v9
  let arg1 : BitVec 32 := BitVec.ofNat 32 (i 1).val
  let c2_i32_1880 : BitVec 32 := 2#32
  let v3135 : BitVec 32 := Scalar.muli arg1 c2_i32_1880
  let c0_i32_1881 : BitVec 32 := 0#32
  let v3136 : BitVec 32 := Scalar.addi v3135 c0_i32_1881
  let c256_i32_1882 : BitVec 32 := 256#32
  let v3137 : BitVec 32 := Scalar.muli v3136 c256_i32_1882
  let c205_i32 : BitVec 32 := 205#32
  let v3138 : BitVec 32 := Scalar.addi v3137 c205_i32
  let c8_i32_1886 : BitVec 32 := 8#32
  let v3143 : BitVec 32 := Scalar.muli v3138 c8_i32_1886
  let v3144 : BitVec 32 := v3143
  let c0_i32_1887 : BitVec 32 := 0#32
  ![v3139.toNat, v3144.toNat, 0]
def k0_off2893 (v3141 : BitVec 32) : Fin 2 → Nat :=
  let v3142 : BitVec 32 := v3141
  let c0_i32_1888 : BitVec 32 := 0#32
  ![v3142.toNat, 0]

def k0_chk719 (i : grid0.Coords) (v3141 : BitVec 32) : Prop :=
  (∀ (k0_h3 : k0_cond3 i = 1#1), 8 ∣ (k0_mult1437 v3141).toNat) ∧
  (∀ (k0_h3 : k0_cond3 i = 1#1), ∀ a, (k0_off2893 v3141) a + S8x128.size a ≤ S131072x128.size a)
theorem k0_mult1437_dvd : ∀ (i : grid0.Coords) (v3141 : BitVec 32) (k0_hw719 : k0_chk719 i v3141), ∀ (k0_h3 : k0_cond3 i = 1#1), 8 ∣ (k0_mult1437 v3141).toNat := fun i v3141 k0_hw719 k0_h3 => k0_hw719.1 k0_h3
theorem k0_off2893_inb : ∀ (i : grid0.Coords) (v3141 : BitVec 32) (k0_hw719 : k0_chk719 i v3141), ∀ (k0_h3 : k0_cond3 i = 1#1), ∀ a, (k0_off2893 v3141) a + S8x128.size a ≤ S131072x128.size a := fun i v3141 k0_hw719 k0_h3 => k0_hw719.2 k0_h3

def k0_off2894 (i : grid0.Coords) : Fin 3 → Nat :=
  let c0_1893 : Index := 0#32
  let c0_1894 : Index := 0#32
  let arg1 : BitVec 32 := BitVec.ofNat 32 (i 1).val
  let c2_i32_1889 : BitVec 32 := 2#32
  let v3150 : BitVec 32 := Scalar.muli arg1 c2_i32_1889
  let c0_i32_1890 : BitVec 32 := 0#32
  let v3151 : BitVec 32 := Scalar.addi v3150 c0_i32_1890
  let c256_i32_1891 : BitVec 32 := 256#32
  let v3152 : BitVec 32 := Scalar.muli v3151 c256_i32_1891
  let c206_i32 : BitVec 32 := 206#32
  let v3153 : BitVec 32 := Scalar.addi v3152 c206_i32
  let v3155 : Index := Scalar.indexCast v3153
  ![0, 0, v3155.toNat]
def k0_mult1439 (v3156 : BitVec 32) : BitVec 32 :=
  v3156

def k0_mult1440 (i : grid0.Coords) : BitVec 32 :=
  let arg1 : BitVec 32 := BitVec.ofNat 32 (i 1).val
  let c2_i32_1889 : BitVec 32 := 2#32
  let v3150 : BitVec 32 := Scalar.muli arg1 c2_i32_1889
  let c0_i32_1890 : BitVec 32 := 0#32
  let v3151 : BitVec 32 := Scalar.addi v3150 c0_i32_1890
  let c256_i32_1891 : BitVec 32 := 256#32
  let v3152 : BitVec 32 := Scalar.muli v3151 c256_i32_1891
  let c206_i32 : BitVec 32 := 206#32
  let v3153 : BitVec 32 := Scalar.addi v3152 c206_i32
  let c8_i32_1895 : BitVec 32 := 8#32
  let v3158 : BitVec 32 := Scalar.muli v3153 c8_i32_1895
  v3158
def k0_off2895 (i : grid0.Coords) : Fin 1 → Nat :=
  let c1_i32_1892 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3154 : BitVec 32 := Scalar.subi c1_i32_1892 v9
  ![v3154.toNat]
def k0_off2896 (i : grid0.Coords) : Fin 3 → Nat :=
  let c1_i32_1892 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3154 : BitVec 32 := Scalar.subi c1_i32_1892 v9
  let arg1 : BitVec 32 := BitVec.ofNat 32 (i 1).val
  let c2_i32_1889 : BitVec 32 := 2#32
  let v3150 : BitVec 32 := Scalar.muli arg1 c2_i32_1889
  let c0_i32_1890 : BitVec 32 := 0#32
  let v3151 : BitVec 32 := Scalar.addi v3150 c0_i32_1890
  let c256_i32_1891 : BitVec 32 := 256#32
  let v3152 : BitVec 32 := Scalar.muli v3151 c256_i32_1891
  let c206_i32 : BitVec 32 := 206#32
  let v3153 : BitVec 32 := Scalar.addi v3152 c206_i32
  let c8_i32_1895 : BitVec 32 := 8#32
  let v3158 : BitVec 32 := Scalar.muli v3153 c8_i32_1895
  let v3159 : BitVec 32 := v3158
  let c0_i32_1896 : BitVec 32 := 0#32
  ![v3154.toNat, v3159.toNat, 0]
def k0_off2897 (v3156 : BitVec 32) : Fin 2 → Nat :=
  let v3157 : BitVec 32 := v3156
  let c0_i32_1897 : BitVec 32 := 0#32
  ![v3157.toNat, 0]

def k0_chk720 (i : grid0.Coords) (v3156 : BitVec 32) : Prop :=
  (∀ (k0_h3 : k0_cond3 i = 1#1), 8 ∣ (k0_mult1439 v3156).toNat) ∧
  (∀ (k0_h3 : k0_cond3 i = 1#1), ∀ a, (k0_off2897 v3156) a + S8x128.size a ≤ S131072x128.size a)
theorem k0_mult1439_dvd : ∀ (i : grid0.Coords) (v3156 : BitVec 32) (k0_hw720 : k0_chk720 i v3156), ∀ (k0_h3 : k0_cond3 i = 1#1), 8 ∣ (k0_mult1439 v3156).toNat := fun i v3156 k0_hw720 k0_h3 => k0_hw720.1 k0_h3
theorem k0_off2897_inb : ∀ (i : grid0.Coords) (v3156 : BitVec 32) (k0_hw720 : k0_chk720 i v3156), ∀ (k0_h3 : k0_cond3 i = 1#1), ∀ a, (k0_off2897 v3156) a + S8x128.size a ≤ S131072x128.size a := fun i v3156 k0_hw720 k0_h3 => k0_hw720.2 k0_h3

def k0_off2898 (i : grid0.Coords) : Fin 3 → Nat :=
  let c0_1902 : Index := 0#32
  let c0_1903 : Index := 0#32
  let arg1 : BitVec 32 := BitVec.ofNat 32 (i 1).val
  let c2_i32_1898 : BitVec 32 := 2#32
  let v3165 : BitVec 32 := Scalar.muli arg1 c2_i32_1898
  let c0_i32_1899 : BitVec 32 := 0#32
  let v3166 : BitVec 32 := Scalar.addi v3165 c0_i32_1899
  let c256_i32_1900 : BitVec 32 := 256#32
  let v3167 : BitVec 32 := Scalar.muli v3166 c256_i32_1900
  let c207_i32 : BitVec 32 := 207#32
  let v3168 : BitVec 32 := Scalar.addi v3167 c207_i32
  let v3170 : Index := Scalar.indexCast v3168
  ![0, 0, v3170.toNat]
def k0_mult1441 (v3171 : BitVec 32) : BitVec 32 :=
  v3171

def k0_mult1442 (i : grid0.Coords) : BitVec 32 :=
  let arg1 : BitVec 32 := BitVec.ofNat 32 (i 1).val
  let c2_i32_1898 : BitVec 32 := 2#32
  let v3165 : BitVec 32 := Scalar.muli arg1 c2_i32_1898
  let c0_i32_1899 : BitVec 32 := 0#32
  let v3166 : BitVec 32 := Scalar.addi v3165 c0_i32_1899
  let c256_i32_1900 : BitVec 32 := 256#32
  let v3167 : BitVec 32 := Scalar.muli v3166 c256_i32_1900
  let c207_i32 : BitVec 32 := 207#32
  let v3168 : BitVec 32 := Scalar.addi v3167 c207_i32
  let c8_i32_1904 : BitVec 32 := 8#32
  let v3173 : BitVec 32 := Scalar.muli v3168 c8_i32_1904
  v3173
def k0_off2899 (i : grid0.Coords) : Fin 1 → Nat :=
  let c1_i32_1901 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3169 : BitVec 32 := Scalar.subi c1_i32_1901 v9
  ![v3169.toNat]
def k0_off2900 (i : grid0.Coords) : Fin 3 → Nat :=
  let c1_i32_1901 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3169 : BitVec 32 := Scalar.subi c1_i32_1901 v9
  let arg1 : BitVec 32 := BitVec.ofNat 32 (i 1).val
  let c2_i32_1898 : BitVec 32 := 2#32
  let v3165 : BitVec 32 := Scalar.muli arg1 c2_i32_1898
  let c0_i32_1899 : BitVec 32 := 0#32
  let v3166 : BitVec 32 := Scalar.addi v3165 c0_i32_1899
  let c256_i32_1900 : BitVec 32 := 256#32
  let v3167 : BitVec 32 := Scalar.muli v3166 c256_i32_1900
  let c207_i32 : BitVec 32 := 207#32
  let v3168 : BitVec 32 := Scalar.addi v3167 c207_i32
  let c8_i32_1904 : BitVec 32 := 8#32
  let v3173 : BitVec 32 := Scalar.muli v3168 c8_i32_1904
  let v3174 : BitVec 32 := v3173
  let c0_i32_1905 : BitVec 32 := 0#32
  ![v3169.toNat, v3174.toNat, 0]
def k0_off2901 (v3171 : BitVec 32) : Fin 2 → Nat :=
  let v3172 : BitVec 32 := v3171
  let c0_i32_1906 : BitVec 32 := 0#32
  ![v3172.toNat, 0]

def k0_chk721 (i : grid0.Coords) (v3171 : BitVec 32) : Prop :=
  (∀ (k0_h3 : k0_cond3 i = 1#1), 8 ∣ (k0_mult1441 v3171).toNat) ∧
  (∀ (k0_h3 : k0_cond3 i = 1#1), ∀ a, (k0_off2901 v3171) a + S8x128.size a ≤ S131072x128.size a)
theorem k0_mult1441_dvd : ∀ (i : grid0.Coords) (v3171 : BitVec 32) (k0_hw721 : k0_chk721 i v3171), ∀ (k0_h3 : k0_cond3 i = 1#1), 8 ∣ (k0_mult1441 v3171).toNat := fun i v3171 k0_hw721 k0_h3 => k0_hw721.1 k0_h3
theorem k0_off2901_inb : ∀ (i : grid0.Coords) (v3171 : BitVec 32) (k0_hw721 : k0_chk721 i v3171), ∀ (k0_h3 : k0_cond3 i = 1#1), ∀ a, (k0_off2901 v3171) a + S8x128.size a ≤ S131072x128.size a := fun i v3171 k0_hw721 k0_h3 => k0_hw721.2 k0_h3

def k0_off2902 (i : grid0.Coords) : Fin 3 → Nat :=
  let c0_1911 : Index := 0#32
  let c0_1912 : Index := 0#32
  let arg1 : BitVec 32 := BitVec.ofNat 32 (i 1).val
  let c2_i32_1907 : BitVec 32 := 2#32
  let v3180 : BitVec 32 := Scalar.muli arg1 c2_i32_1907
  let c0_i32_1908 : BitVec 32 := 0#32
  let v3181 : BitVec 32 := Scalar.addi v3180 c0_i32_1908
  let c256_i32_1909 : BitVec 32 := 256#32
  let v3182 : BitVec 32 := Scalar.muli v3181 c256_i32_1909
  let c208_i32 : BitVec 32 := 208#32
  let v3183 : BitVec 32 := Scalar.addi v3182 c208_i32
  let v3185 : Index := Scalar.indexCast v3183
  ![0, 0, v3185.toNat]
def k0_mult1443 (v3186 : BitVec 32) : BitVec 32 :=
  v3186

def k0_mult1444 (i : grid0.Coords) : BitVec 32 :=
  let arg1 : BitVec 32 := BitVec.ofNat 32 (i 1).val
  let c2_i32_1907 : BitVec 32 := 2#32
  let v3180 : BitVec 32 := Scalar.muli arg1 c2_i32_1907
  let c0_i32_1908 : BitVec 32 := 0#32
  let v3181 : BitVec 32 := Scalar.addi v3180 c0_i32_1908
  let c256_i32_1909 : BitVec 32 := 256#32
  let v3182 : BitVec 32 := Scalar.muli v3181 c256_i32_1909
  let c208_i32 : BitVec 32 := 208#32
  let v3183 : BitVec 32 := Scalar.addi v3182 c208_i32
  let c8_i32_1913 : BitVec 32 := 8#32
  let v3188 : BitVec 32 := Scalar.muli v3183 c8_i32_1913
  v3188
def k0_off2903 (i : grid0.Coords) : Fin 1 → Nat :=
  let c1_i32_1910 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3184 : BitVec 32 := Scalar.subi c1_i32_1910 v9
  ![v3184.toNat]
def k0_off2904 (i : grid0.Coords) : Fin 3 → Nat :=
  let c1_i32_1910 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3184 : BitVec 32 := Scalar.subi c1_i32_1910 v9
  let arg1 : BitVec 32 := BitVec.ofNat 32 (i 1).val
  let c2_i32_1907 : BitVec 32 := 2#32
  let v3180 : BitVec 32 := Scalar.muli arg1 c2_i32_1907
  let c0_i32_1908 : BitVec 32 := 0#32
  let v3181 : BitVec 32 := Scalar.addi v3180 c0_i32_1908
  let c256_i32_1909 : BitVec 32 := 256#32
  let v3182 : BitVec 32 := Scalar.muli v3181 c256_i32_1909
  let c208_i32 : BitVec 32 := 208#32
  let v3183 : BitVec 32 := Scalar.addi v3182 c208_i32
  let c8_i32_1913 : BitVec 32 := 8#32
  let v3188 : BitVec 32 := Scalar.muli v3183 c8_i32_1913
  let v3189 : BitVec 32 := v3188
  let c0_i32_1914 : BitVec 32 := 0#32
  ![v3184.toNat, v3189.toNat, 0]
def k0_off2905 (v3186 : BitVec 32) : Fin 2 → Nat :=
  let v3187 : BitVec 32 := v3186
  let c0_i32_1915 : BitVec 32 := 0#32
  ![v3187.toNat, 0]

def k0_chk722 (i : grid0.Coords) (v3186 : BitVec 32) : Prop :=
  (∀ (k0_h3 : k0_cond3 i = 1#1), 8 ∣ (k0_mult1443 v3186).toNat) ∧
  (∀ (k0_h3 : k0_cond3 i = 1#1), ∀ a, (k0_off2905 v3186) a + S8x128.size a ≤ S131072x128.size a)
theorem k0_mult1443_dvd : ∀ (i : grid0.Coords) (v3186 : BitVec 32) (k0_hw722 : k0_chk722 i v3186), ∀ (k0_h3 : k0_cond3 i = 1#1), 8 ∣ (k0_mult1443 v3186).toNat := fun i v3186 k0_hw722 k0_h3 => k0_hw722.1 k0_h3
theorem k0_off2905_inb : ∀ (i : grid0.Coords) (v3186 : BitVec 32) (k0_hw722 : k0_chk722 i v3186), ∀ (k0_h3 : k0_cond3 i = 1#1), ∀ a, (k0_off2905 v3186) a + S8x128.size a ≤ S131072x128.size a := fun i v3186 k0_hw722 k0_h3 => k0_hw722.2 k0_h3

def k0_off2906 (i : grid0.Coords) : Fin 3 → Nat :=
  let c0_1920 : Index := 0#32
  let c0_1921 : Index := 0#32
  let arg1 : BitVec 32 := BitVec.ofNat 32 (i 1).val
  let c2_i32_1916 : BitVec 32 := 2#32
  let v3195 : BitVec 32 := Scalar.muli arg1 c2_i32_1916
  let c0_i32_1917 : BitVec 32 := 0#32
  let v3196 : BitVec 32 := Scalar.addi v3195 c0_i32_1917
  let c256_i32_1918 : BitVec 32 := 256#32
  let v3197 : BitVec 32 := Scalar.muli v3196 c256_i32_1918
  let c209_i32 : BitVec 32 := 209#32
  let v3198 : BitVec 32 := Scalar.addi v3197 c209_i32
  let v3200 : Index := Scalar.indexCast v3198
  ![0, 0, v3200.toNat]
def k0_mult1445 (v3201 : BitVec 32) : BitVec 32 :=
  v3201

def k0_mult1446 (i : grid0.Coords) : BitVec 32 :=
  let arg1 : BitVec 32 := BitVec.ofNat 32 (i 1).val
  let c2_i32_1916 : BitVec 32 := 2#32
  let v3195 : BitVec 32 := Scalar.muli arg1 c2_i32_1916
  let c0_i32_1917 : BitVec 32 := 0#32
  let v3196 : BitVec 32 := Scalar.addi v3195 c0_i32_1917
  let c256_i32_1918 : BitVec 32 := 256#32
  let v3197 : BitVec 32 := Scalar.muli v3196 c256_i32_1918
  let c209_i32 : BitVec 32 := 209#32
  let v3198 : BitVec 32 := Scalar.addi v3197 c209_i32
  let c8_i32_1922 : BitVec 32 := 8#32
  let v3203 : BitVec 32 := Scalar.muli v3198 c8_i32_1922
  v3203
def k0_off2907 (i : grid0.Coords) : Fin 1 → Nat :=
  let c1_i32_1919 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3199 : BitVec 32 := Scalar.subi c1_i32_1919 v9
  ![v3199.toNat]
def k0_off2908 (i : grid0.Coords) : Fin 3 → Nat :=
  let c1_i32_1919 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3199 : BitVec 32 := Scalar.subi c1_i32_1919 v9
  let arg1 : BitVec 32 := BitVec.ofNat 32 (i 1).val
  let c2_i32_1916 : BitVec 32 := 2#32
  let v3195 : BitVec 32 := Scalar.muli arg1 c2_i32_1916
  let c0_i32_1917 : BitVec 32 := 0#32
  let v3196 : BitVec 32 := Scalar.addi v3195 c0_i32_1917
  let c256_i32_1918 : BitVec 32 := 256#32
  let v3197 : BitVec 32 := Scalar.muli v3196 c256_i32_1918
  let c209_i32 : BitVec 32 := 209#32
  let v3198 : BitVec 32 := Scalar.addi v3197 c209_i32
  let c8_i32_1922 : BitVec 32 := 8#32
  let v3203 : BitVec 32 := Scalar.muli v3198 c8_i32_1922
  let v3204 : BitVec 32 := v3203
  let c0_i32_1923 : BitVec 32 := 0#32
  ![v3199.toNat, v3204.toNat, 0]
def k0_off2909 (v3201 : BitVec 32) : Fin 2 → Nat :=
  let v3202 : BitVec 32 := v3201
  let c0_i32_1924 : BitVec 32 := 0#32
  ![v3202.toNat, 0]

def k0_chk723 (i : grid0.Coords) (v3201 : BitVec 32) : Prop :=
  (∀ (k0_h3 : k0_cond3 i = 1#1), 8 ∣ (k0_mult1445 v3201).toNat) ∧
  (∀ (k0_h3 : k0_cond3 i = 1#1), ∀ a, (k0_off2909 v3201) a + S8x128.size a ≤ S131072x128.size a)
theorem k0_mult1445_dvd : ∀ (i : grid0.Coords) (v3201 : BitVec 32) (k0_hw723 : k0_chk723 i v3201), ∀ (k0_h3 : k0_cond3 i = 1#1), 8 ∣ (k0_mult1445 v3201).toNat := fun i v3201 k0_hw723 k0_h3 => k0_hw723.1 k0_h3
theorem k0_off2909_inb : ∀ (i : grid0.Coords) (v3201 : BitVec 32) (k0_hw723 : k0_chk723 i v3201), ∀ (k0_h3 : k0_cond3 i = 1#1), ∀ a, (k0_off2909 v3201) a + S8x128.size a ≤ S131072x128.size a := fun i v3201 k0_hw723 k0_h3 => k0_hw723.2 k0_h3

def k0_off2910 (i : grid0.Coords) : Fin 3 → Nat :=
  let c0_1929 : Index := 0#32
  let c0_1930 : Index := 0#32
  let arg1 : BitVec 32 := BitVec.ofNat 32 (i 1).val
  let c2_i32_1925 : BitVec 32 := 2#32
  let v3210 : BitVec 32 := Scalar.muli arg1 c2_i32_1925
  let c0_i32_1926 : BitVec 32 := 0#32
  let v3211 : BitVec 32 := Scalar.addi v3210 c0_i32_1926
  let c256_i32_1927 : BitVec 32 := 256#32
  let v3212 : BitVec 32 := Scalar.muli v3211 c256_i32_1927
  let c210_i32 : BitVec 32 := 210#32
  let v3213 : BitVec 32 := Scalar.addi v3212 c210_i32
  let v3215 : Index := Scalar.indexCast v3213
  ![0, 0, v3215.toNat]
def k0_mult1447 (v3216 : BitVec 32) : BitVec 32 :=
  v3216

def k0_mult1448 (i : grid0.Coords) : BitVec 32 :=
  let arg1 : BitVec 32 := BitVec.ofNat 32 (i 1).val
  let c2_i32_1925 : BitVec 32 := 2#32
  let v3210 : BitVec 32 := Scalar.muli arg1 c2_i32_1925
  let c0_i32_1926 : BitVec 32 := 0#32
  let v3211 : BitVec 32 := Scalar.addi v3210 c0_i32_1926
  let c256_i32_1927 : BitVec 32 := 256#32
  let v3212 : BitVec 32 := Scalar.muli v3211 c256_i32_1927
  let c210_i32 : BitVec 32 := 210#32
  let v3213 : BitVec 32 := Scalar.addi v3212 c210_i32
  let c8_i32_1931 : BitVec 32 := 8#32
  let v3218 : BitVec 32 := Scalar.muli v3213 c8_i32_1931
  v3218
def k0_off2911 (i : grid0.Coords) : Fin 1 → Nat :=
  let c1_i32_1928 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3214 : BitVec 32 := Scalar.subi c1_i32_1928 v9
  ![v3214.toNat]
def k0_off2912 (i : grid0.Coords) : Fin 3 → Nat :=
  let c1_i32_1928 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3214 : BitVec 32 := Scalar.subi c1_i32_1928 v9
  let arg1 : BitVec 32 := BitVec.ofNat 32 (i 1).val
  let c2_i32_1925 : BitVec 32 := 2#32
  let v3210 : BitVec 32 := Scalar.muli arg1 c2_i32_1925
  let c0_i32_1926 : BitVec 32 := 0#32
  let v3211 : BitVec 32 := Scalar.addi v3210 c0_i32_1926
  let c256_i32_1927 : BitVec 32 := 256#32
  let v3212 : BitVec 32 := Scalar.muli v3211 c256_i32_1927
  let c210_i32 : BitVec 32 := 210#32
  let v3213 : BitVec 32 := Scalar.addi v3212 c210_i32
  let c8_i32_1931 : BitVec 32 := 8#32
  let v3218 : BitVec 32 := Scalar.muli v3213 c8_i32_1931
  let v3219 : BitVec 32 := v3218
  let c0_i32_1932 : BitVec 32 := 0#32
  ![v3214.toNat, v3219.toNat, 0]
def k0_off2913 (v3216 : BitVec 32) : Fin 2 → Nat :=
  let v3217 : BitVec 32 := v3216
  let c0_i32_1933 : BitVec 32 := 0#32
  ![v3217.toNat, 0]

def k0_chk724 (i : grid0.Coords) (v3216 : BitVec 32) : Prop :=
  (∀ (k0_h3 : k0_cond3 i = 1#1), 8 ∣ (k0_mult1447 v3216).toNat) ∧
  (∀ (k0_h3 : k0_cond3 i = 1#1), ∀ a, (k0_off2913 v3216) a + S8x128.size a ≤ S131072x128.size a)
theorem k0_mult1447_dvd : ∀ (i : grid0.Coords) (v3216 : BitVec 32) (k0_hw724 : k0_chk724 i v3216), ∀ (k0_h3 : k0_cond3 i = 1#1), 8 ∣ (k0_mult1447 v3216).toNat := fun i v3216 k0_hw724 k0_h3 => k0_hw724.1 k0_h3
theorem k0_off2913_inb : ∀ (i : grid0.Coords) (v3216 : BitVec 32) (k0_hw724 : k0_chk724 i v3216), ∀ (k0_h3 : k0_cond3 i = 1#1), ∀ a, (k0_off2913 v3216) a + S8x128.size a ≤ S131072x128.size a := fun i v3216 k0_hw724 k0_h3 => k0_hw724.2 k0_h3

def k0_off2914 (i : grid0.Coords) : Fin 3 → Nat :=
  let c0_1938 : Index := 0#32
  let c0_1939 : Index := 0#32
  let arg1 : BitVec 32 := BitVec.ofNat 32 (i 1).val
  let c2_i32_1934 : BitVec 32 := 2#32
  let v3225 : BitVec 32 := Scalar.muli arg1 c2_i32_1934
  let c0_i32_1935 : BitVec 32 := 0#32
  let v3226 : BitVec 32 := Scalar.addi v3225 c0_i32_1935
  let c256_i32_1936 : BitVec 32 := 256#32
  let v3227 : BitVec 32 := Scalar.muli v3226 c256_i32_1936
  let c211_i32 : BitVec 32 := 211#32
  let v3228 : BitVec 32 := Scalar.addi v3227 c211_i32
  let v3230 : Index := Scalar.indexCast v3228
  ![0, 0, v3230.toNat]
def k0_mult1449 (v3231 : BitVec 32) : BitVec 32 :=
  v3231

def k0_mult1450 (i : grid0.Coords) : BitVec 32 :=
  let arg1 : BitVec 32 := BitVec.ofNat 32 (i 1).val
  let c2_i32_1934 : BitVec 32 := 2#32
  let v3225 : BitVec 32 := Scalar.muli arg1 c2_i32_1934
  let c0_i32_1935 : BitVec 32 := 0#32
  let v3226 : BitVec 32 := Scalar.addi v3225 c0_i32_1935
  let c256_i32_1936 : BitVec 32 := 256#32
  let v3227 : BitVec 32 := Scalar.muli v3226 c256_i32_1936
  let c211_i32 : BitVec 32 := 211#32
  let v3228 : BitVec 32 := Scalar.addi v3227 c211_i32
  let c8_i32_1940 : BitVec 32 := 8#32
  let v3233 : BitVec 32 := Scalar.muli v3228 c8_i32_1940
  v3233
def k0_off2915 (i : grid0.Coords) : Fin 1 → Nat :=
  let c1_i32_1937 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3229 : BitVec 32 := Scalar.subi c1_i32_1937 v9
  ![v3229.toNat]
def k0_off2916 (i : grid0.Coords) : Fin 3 → Nat :=
  let c1_i32_1937 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3229 : BitVec 32 := Scalar.subi c1_i32_1937 v9
  let arg1 : BitVec 32 := BitVec.ofNat 32 (i 1).val
  let c2_i32_1934 : BitVec 32 := 2#32
  let v3225 : BitVec 32 := Scalar.muli arg1 c2_i32_1934
  let c0_i32_1935 : BitVec 32 := 0#32
  let v3226 : BitVec 32 := Scalar.addi v3225 c0_i32_1935
  let c256_i32_1936 : BitVec 32 := 256#32
  let v3227 : BitVec 32 := Scalar.muli v3226 c256_i32_1936
  let c211_i32 : BitVec 32 := 211#32
  let v3228 : BitVec 32 := Scalar.addi v3227 c211_i32
  let c8_i32_1940 : BitVec 32 := 8#32
  let v3233 : BitVec 32 := Scalar.muli v3228 c8_i32_1940
  let v3234 : BitVec 32 := v3233
  let c0_i32_1941 : BitVec 32 := 0#32
  ![v3229.toNat, v3234.toNat, 0]
def k0_off2917 (v3231 : BitVec 32) : Fin 2 → Nat :=
  let v3232 : BitVec 32 := v3231
  let c0_i32_1942 : BitVec 32 := 0#32
  ![v3232.toNat, 0]

def k0_chk725 (i : grid0.Coords) (v3231 : BitVec 32) : Prop :=
  (∀ (k0_h3 : k0_cond3 i = 1#1), 8 ∣ (k0_mult1449 v3231).toNat) ∧
  (∀ (k0_h3 : k0_cond3 i = 1#1), ∀ a, (k0_off2917 v3231) a + S8x128.size a ≤ S131072x128.size a)
theorem k0_mult1449_dvd : ∀ (i : grid0.Coords) (v3231 : BitVec 32) (k0_hw725 : k0_chk725 i v3231), ∀ (k0_h3 : k0_cond3 i = 1#1), 8 ∣ (k0_mult1449 v3231).toNat := fun i v3231 k0_hw725 k0_h3 => k0_hw725.1 k0_h3
theorem k0_off2917_inb : ∀ (i : grid0.Coords) (v3231 : BitVec 32) (k0_hw725 : k0_chk725 i v3231), ∀ (k0_h3 : k0_cond3 i = 1#1), ∀ a, (k0_off2917 v3231) a + S8x128.size a ≤ S131072x128.size a := fun i v3231 k0_hw725 k0_h3 => k0_hw725.2 k0_h3

def k0_off2918 (i : grid0.Coords) : Fin 3 → Nat :=
  let c0_1947 : Index := 0#32
  let c0_1948 : Index := 0#32
  let arg1 : BitVec 32 := BitVec.ofNat 32 (i 1).val
  let c2_i32_1943 : BitVec 32 := 2#32
  let v3240 : BitVec 32 := Scalar.muli arg1 c2_i32_1943
  let c0_i32_1944 : BitVec 32 := 0#32
  let v3241 : BitVec 32 := Scalar.addi v3240 c0_i32_1944
  let c256_i32_1945 : BitVec 32 := 256#32
  let v3242 : BitVec 32 := Scalar.muli v3241 c256_i32_1945
  let c212_i32 : BitVec 32 := 212#32
  let v3243 : BitVec 32 := Scalar.addi v3242 c212_i32
  let v3245 : Index := Scalar.indexCast v3243
  ![0, 0, v3245.toNat]
def k0_mult1451 (v3246 : BitVec 32) : BitVec 32 :=
  v3246

def k0_mult1452 (i : grid0.Coords) : BitVec 32 :=
  let arg1 : BitVec 32 := BitVec.ofNat 32 (i 1).val
  let c2_i32_1943 : BitVec 32 := 2#32
  let v3240 : BitVec 32 := Scalar.muli arg1 c2_i32_1943
  let c0_i32_1944 : BitVec 32 := 0#32
  let v3241 : BitVec 32 := Scalar.addi v3240 c0_i32_1944
  let c256_i32_1945 : BitVec 32 := 256#32
  let v3242 : BitVec 32 := Scalar.muli v3241 c256_i32_1945
  let c212_i32 : BitVec 32 := 212#32
  let v3243 : BitVec 32 := Scalar.addi v3242 c212_i32
  let c8_i32_1949 : BitVec 32 := 8#32
  let v3248 : BitVec 32 := Scalar.muli v3243 c8_i32_1949
  v3248
def k0_off2919 (i : grid0.Coords) : Fin 1 → Nat :=
  let c1_i32_1946 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3244 : BitVec 32 := Scalar.subi c1_i32_1946 v9
  ![v3244.toNat]
def k0_off2920 (i : grid0.Coords) : Fin 3 → Nat :=
  let c1_i32_1946 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3244 : BitVec 32 := Scalar.subi c1_i32_1946 v9
  let arg1 : BitVec 32 := BitVec.ofNat 32 (i 1).val
  let c2_i32_1943 : BitVec 32 := 2#32
  let v3240 : BitVec 32 := Scalar.muli arg1 c2_i32_1943
  let c0_i32_1944 : BitVec 32 := 0#32
  let v3241 : BitVec 32 := Scalar.addi v3240 c0_i32_1944
  let c256_i32_1945 : BitVec 32 := 256#32
  let v3242 : BitVec 32 := Scalar.muli v3241 c256_i32_1945
  let c212_i32 : BitVec 32 := 212#32
  let v3243 : BitVec 32 := Scalar.addi v3242 c212_i32
  let c8_i32_1949 : BitVec 32 := 8#32
  let v3248 : BitVec 32 := Scalar.muli v3243 c8_i32_1949
  let v3249 : BitVec 32 := v3248
  let c0_i32_1950 : BitVec 32 := 0#32
  ![v3244.toNat, v3249.toNat, 0]
def k0_off2921 (v3246 : BitVec 32) : Fin 2 → Nat :=
  let v3247 : BitVec 32 := v3246
  let c0_i32_1951 : BitVec 32 := 0#32
  ![v3247.toNat, 0]

def k0_chk726 (i : grid0.Coords) (v3246 : BitVec 32) : Prop :=
  (∀ (k0_h3 : k0_cond3 i = 1#1), 8 ∣ (k0_mult1451 v3246).toNat) ∧
  (∀ (k0_h3 : k0_cond3 i = 1#1), ∀ a, (k0_off2921 v3246) a + S8x128.size a ≤ S131072x128.size a)
theorem k0_mult1451_dvd : ∀ (i : grid0.Coords) (v3246 : BitVec 32) (k0_hw726 : k0_chk726 i v3246), ∀ (k0_h3 : k0_cond3 i = 1#1), 8 ∣ (k0_mult1451 v3246).toNat := fun i v3246 k0_hw726 k0_h3 => k0_hw726.1 k0_h3
theorem k0_off2921_inb : ∀ (i : grid0.Coords) (v3246 : BitVec 32) (k0_hw726 : k0_chk726 i v3246), ∀ (k0_h3 : k0_cond3 i = 1#1), ∀ a, (k0_off2921 v3246) a + S8x128.size a ≤ S131072x128.size a := fun i v3246 k0_hw726 k0_h3 => k0_hw726.2 k0_h3

def k0_off2922 (i : grid0.Coords) : Fin 3 → Nat :=
  let c0_1956 : Index := 0#32
  let c0_1957 : Index := 0#32
  let arg1 : BitVec 32 := BitVec.ofNat 32 (i 1).val
  let c2_i32_1952 : BitVec 32 := 2#32
  let v3255 : BitVec 32 := Scalar.muli arg1 c2_i32_1952
  let c0_i32_1953 : BitVec 32 := 0#32
  let v3256 : BitVec 32 := Scalar.addi v3255 c0_i32_1953
  let c256_i32_1954 : BitVec 32 := 256#32
  let v3257 : BitVec 32 := Scalar.muli v3256 c256_i32_1954
  let c213_i32 : BitVec 32 := 213#32
  let v3258 : BitVec 32 := Scalar.addi v3257 c213_i32
  let v3260 : Index := Scalar.indexCast v3258
  ![0, 0, v3260.toNat]
def k0_mult1453 (v3261 : BitVec 32) : BitVec 32 :=
  v3261

def k0_mult1454 (i : grid0.Coords) : BitVec 32 :=
  let arg1 : BitVec 32 := BitVec.ofNat 32 (i 1).val
  let c2_i32_1952 : BitVec 32 := 2#32
  let v3255 : BitVec 32 := Scalar.muli arg1 c2_i32_1952
  let c0_i32_1953 : BitVec 32 := 0#32
  let v3256 : BitVec 32 := Scalar.addi v3255 c0_i32_1953
  let c256_i32_1954 : BitVec 32 := 256#32
  let v3257 : BitVec 32 := Scalar.muli v3256 c256_i32_1954
  let c213_i32 : BitVec 32 := 213#32
  let v3258 : BitVec 32 := Scalar.addi v3257 c213_i32
  let c8_i32_1958 : BitVec 32 := 8#32
  let v3263 : BitVec 32 := Scalar.muli v3258 c8_i32_1958
  v3263
def k0_off2923 (i : grid0.Coords) : Fin 1 → Nat :=
  let c1_i32_1955 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3259 : BitVec 32 := Scalar.subi c1_i32_1955 v9
  ![v3259.toNat]
def k0_off2924 (i : grid0.Coords) : Fin 3 → Nat :=
  let c1_i32_1955 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3259 : BitVec 32 := Scalar.subi c1_i32_1955 v9
  let arg1 : BitVec 32 := BitVec.ofNat 32 (i 1).val
  let c2_i32_1952 : BitVec 32 := 2#32
  let v3255 : BitVec 32 := Scalar.muli arg1 c2_i32_1952
  let c0_i32_1953 : BitVec 32 := 0#32
  let v3256 : BitVec 32 := Scalar.addi v3255 c0_i32_1953
  let c256_i32_1954 : BitVec 32 := 256#32
  let v3257 : BitVec 32 := Scalar.muli v3256 c256_i32_1954
  let c213_i32 : BitVec 32 := 213#32
  let v3258 : BitVec 32 := Scalar.addi v3257 c213_i32
  let c8_i32_1958 : BitVec 32 := 8#32
  let v3263 : BitVec 32 := Scalar.muli v3258 c8_i32_1958
  let v3264 : BitVec 32 := v3263
  let c0_i32_1959 : BitVec 32 := 0#32
  ![v3259.toNat, v3264.toNat, 0]
def k0_off2925 (v3261 : BitVec 32) : Fin 2 → Nat :=
  let v3262 : BitVec 32 := v3261
  let c0_i32_1960 : BitVec 32 := 0#32
  ![v3262.toNat, 0]

def k0_chk727 (i : grid0.Coords) (v3261 : BitVec 32) : Prop :=
  (∀ (k0_h3 : k0_cond3 i = 1#1), 8 ∣ (k0_mult1453 v3261).toNat) ∧
  (∀ (k0_h3 : k0_cond3 i = 1#1), ∀ a, (k0_off2925 v3261) a + S8x128.size a ≤ S131072x128.size a)
theorem k0_mult1453_dvd : ∀ (i : grid0.Coords) (v3261 : BitVec 32) (k0_hw727 : k0_chk727 i v3261), ∀ (k0_h3 : k0_cond3 i = 1#1), 8 ∣ (k0_mult1453 v3261).toNat := fun i v3261 k0_hw727 k0_h3 => k0_hw727.1 k0_h3
theorem k0_off2925_inb : ∀ (i : grid0.Coords) (v3261 : BitVec 32) (k0_hw727 : k0_chk727 i v3261), ∀ (k0_h3 : k0_cond3 i = 1#1), ∀ a, (k0_off2925 v3261) a + S8x128.size a ≤ S131072x128.size a := fun i v3261 k0_hw727 k0_h3 => k0_hw727.2 k0_h3

def k0_off2926 (i : grid0.Coords) : Fin 3 → Nat :=
  let c0_1965 : Index := 0#32
  let c0_1966 : Index := 0#32
  let arg1 : BitVec 32 := BitVec.ofNat 32 (i 1).val
  let c2_i32_1961 : BitVec 32 := 2#32
  let v3270 : BitVec 32 := Scalar.muli arg1 c2_i32_1961
  let c0_i32_1962 : BitVec 32 := 0#32
  let v3271 : BitVec 32 := Scalar.addi v3270 c0_i32_1962
  let c256_i32_1963 : BitVec 32 := 256#32
  let v3272 : BitVec 32 := Scalar.muli v3271 c256_i32_1963
  let c214_i32 : BitVec 32 := 214#32
  let v3273 : BitVec 32 := Scalar.addi v3272 c214_i32
  let v3275 : Index := Scalar.indexCast v3273
  ![0, 0, v3275.toNat]
def k0_mult1455 (v3276 : BitVec 32) : BitVec 32 :=
  v3276

def k0_mult1456 (i : grid0.Coords) : BitVec 32 :=
  let arg1 : BitVec 32 := BitVec.ofNat 32 (i 1).val
  let c2_i32_1961 : BitVec 32 := 2#32
  let v3270 : BitVec 32 := Scalar.muli arg1 c2_i32_1961
  let c0_i32_1962 : BitVec 32 := 0#32
  let v3271 : BitVec 32 := Scalar.addi v3270 c0_i32_1962
  let c256_i32_1963 : BitVec 32 := 256#32
  let v3272 : BitVec 32 := Scalar.muli v3271 c256_i32_1963
  let c214_i32 : BitVec 32 := 214#32
  let v3273 : BitVec 32 := Scalar.addi v3272 c214_i32
  let c8_i32_1967 : BitVec 32 := 8#32
  let v3278 : BitVec 32 := Scalar.muli v3273 c8_i32_1967
  v3278
def k0_off2927 (i : grid0.Coords) : Fin 1 → Nat :=
  let c1_i32_1964 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3274 : BitVec 32 := Scalar.subi c1_i32_1964 v9
  ![v3274.toNat]
def k0_off2928 (i : grid0.Coords) : Fin 3 → Nat :=
  let c1_i32_1964 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3274 : BitVec 32 := Scalar.subi c1_i32_1964 v9
  let arg1 : BitVec 32 := BitVec.ofNat 32 (i 1).val
  let c2_i32_1961 : BitVec 32 := 2#32
  let v3270 : BitVec 32 := Scalar.muli arg1 c2_i32_1961
  let c0_i32_1962 : BitVec 32 := 0#32
  let v3271 : BitVec 32 := Scalar.addi v3270 c0_i32_1962
  let c256_i32_1963 : BitVec 32 := 256#32
  let v3272 : BitVec 32 := Scalar.muli v3271 c256_i32_1963
  let c214_i32 : BitVec 32 := 214#32
  let v3273 : BitVec 32 := Scalar.addi v3272 c214_i32
  let c8_i32_1967 : BitVec 32 := 8#32
  let v3278 : BitVec 32 := Scalar.muli v3273 c8_i32_1967
  let v3279 : BitVec 32 := v3278
  let c0_i32_1968 : BitVec 32 := 0#32
  ![v3274.toNat, v3279.toNat, 0]
def k0_off2929 (v3276 : BitVec 32) : Fin 2 → Nat :=
  let v3277 : BitVec 32 := v3276
  let c0_i32_1969 : BitVec 32 := 0#32
  ![v3277.toNat, 0]

def k0_chk728 (i : grid0.Coords) (v3276 : BitVec 32) : Prop :=
  (∀ (k0_h3 : k0_cond3 i = 1#1), 8 ∣ (k0_mult1455 v3276).toNat) ∧
  (∀ (k0_h3 : k0_cond3 i = 1#1), ∀ a, (k0_off2929 v3276) a + S8x128.size a ≤ S131072x128.size a)
theorem k0_mult1455_dvd : ∀ (i : grid0.Coords) (v3276 : BitVec 32) (k0_hw728 : k0_chk728 i v3276), ∀ (k0_h3 : k0_cond3 i = 1#1), 8 ∣ (k0_mult1455 v3276).toNat := fun i v3276 k0_hw728 k0_h3 => k0_hw728.1 k0_h3
theorem k0_off2929_inb : ∀ (i : grid0.Coords) (v3276 : BitVec 32) (k0_hw728 : k0_chk728 i v3276), ∀ (k0_h3 : k0_cond3 i = 1#1), ∀ a, (k0_off2929 v3276) a + S8x128.size a ≤ S131072x128.size a := fun i v3276 k0_hw728 k0_h3 => k0_hw728.2 k0_h3

def k0_off2930 (i : grid0.Coords) : Fin 3 → Nat :=
  let c0_1974 : Index := 0#32
  let c0_1975 : Index := 0#32
  let arg1 : BitVec 32 := BitVec.ofNat 32 (i 1).val
  let c2_i32_1970 : BitVec 32 := 2#32
  let v3285 : BitVec 32 := Scalar.muli arg1 c2_i32_1970
  let c0_i32_1971 : BitVec 32 := 0#32
  let v3286 : BitVec 32 := Scalar.addi v3285 c0_i32_1971
  let c256_i32_1972 : BitVec 32 := 256#32
  let v3287 : BitVec 32 := Scalar.muli v3286 c256_i32_1972
  let c215_i32 : BitVec 32 := 215#32
  let v3288 : BitVec 32 := Scalar.addi v3287 c215_i32
  let v3290 : Index := Scalar.indexCast v3288
  ![0, 0, v3290.toNat]
def k0_mult1457 (v3291 : BitVec 32) : BitVec 32 :=
  v3291

def k0_mult1458 (i : grid0.Coords) : BitVec 32 :=
  let arg1 : BitVec 32 := BitVec.ofNat 32 (i 1).val
  let c2_i32_1970 : BitVec 32 := 2#32
  let v3285 : BitVec 32 := Scalar.muli arg1 c2_i32_1970
  let c0_i32_1971 : BitVec 32 := 0#32
  let v3286 : BitVec 32 := Scalar.addi v3285 c0_i32_1971
  let c256_i32_1972 : BitVec 32 := 256#32
  let v3287 : BitVec 32 := Scalar.muli v3286 c256_i32_1972
  let c215_i32 : BitVec 32 := 215#32
  let v3288 : BitVec 32 := Scalar.addi v3287 c215_i32
  let c8_i32_1976 : BitVec 32 := 8#32
  let v3293 : BitVec 32 := Scalar.muli v3288 c8_i32_1976
  v3293
def k0_off2931 (i : grid0.Coords) : Fin 1 → Nat :=
  let c1_i32_1973 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3289 : BitVec 32 := Scalar.subi c1_i32_1973 v9
  ![v3289.toNat]
def k0_off2932 (i : grid0.Coords) : Fin 3 → Nat :=
  let c1_i32_1973 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3289 : BitVec 32 := Scalar.subi c1_i32_1973 v9
  let arg1 : BitVec 32 := BitVec.ofNat 32 (i 1).val
  let c2_i32_1970 : BitVec 32 := 2#32
  let v3285 : BitVec 32 := Scalar.muli arg1 c2_i32_1970
  let c0_i32_1971 : BitVec 32 := 0#32
  let v3286 : BitVec 32 := Scalar.addi v3285 c0_i32_1971
  let c256_i32_1972 : BitVec 32 := 256#32
  let v3287 : BitVec 32 := Scalar.muli v3286 c256_i32_1972
  let c215_i32 : BitVec 32 := 215#32
  let v3288 : BitVec 32 := Scalar.addi v3287 c215_i32
  let c8_i32_1976 : BitVec 32 := 8#32
  let v3293 : BitVec 32 := Scalar.muli v3288 c8_i32_1976
  let v3294 : BitVec 32 := v3293
  let c0_i32_1977 : BitVec 32 := 0#32
  ![v3289.toNat, v3294.toNat, 0]
def k0_off2933 (v3291 : BitVec 32) : Fin 2 → Nat :=
  let v3292 : BitVec 32 := v3291
  let c0_i32_1978 : BitVec 32 := 0#32
  ![v3292.toNat, 0]

def k0_chk729 (i : grid0.Coords) (v3291 : BitVec 32) : Prop :=
  (∀ (k0_h3 : k0_cond3 i = 1#1), 8 ∣ (k0_mult1457 v3291).toNat) ∧
  (∀ (k0_h3 : k0_cond3 i = 1#1), ∀ a, (k0_off2933 v3291) a + S8x128.size a ≤ S131072x128.size a)
theorem k0_mult1457_dvd : ∀ (i : grid0.Coords) (v3291 : BitVec 32) (k0_hw729 : k0_chk729 i v3291), ∀ (k0_h3 : k0_cond3 i = 1#1), 8 ∣ (k0_mult1457 v3291).toNat := fun i v3291 k0_hw729 k0_h3 => k0_hw729.1 k0_h3
theorem k0_off2933_inb : ∀ (i : grid0.Coords) (v3291 : BitVec 32) (k0_hw729 : k0_chk729 i v3291), ∀ (k0_h3 : k0_cond3 i = 1#1), ∀ a, (k0_off2933 v3291) a + S8x128.size a ≤ S131072x128.size a := fun i v3291 k0_hw729 k0_h3 => k0_hw729.2 k0_h3

def k0_off2934 (i : grid0.Coords) : Fin 3 → Nat :=
  let c0_1983 : Index := 0#32
  let c0_1984 : Index := 0#32
  let arg1 : BitVec 32 := BitVec.ofNat 32 (i 1).val
  let c2_i32_1979 : BitVec 32 := 2#32
  let v3300 : BitVec 32 := Scalar.muli arg1 c2_i32_1979
  let c0_i32_1980 : BitVec 32 := 0#32
  let v3301 : BitVec 32 := Scalar.addi v3300 c0_i32_1980
  let c256_i32_1981 : BitVec 32 := 256#32
  let v3302 : BitVec 32 := Scalar.muli v3301 c256_i32_1981
  let c216_i32 : BitVec 32 := 216#32
  let v3303 : BitVec 32 := Scalar.addi v3302 c216_i32
  let v3305 : Index := Scalar.indexCast v3303
  ![0, 0, v3305.toNat]
def k0_mult1459 (v3306 : BitVec 32) : BitVec 32 :=
  v3306

def k0_mult1460 (i : grid0.Coords) : BitVec 32 :=
  let arg1 : BitVec 32 := BitVec.ofNat 32 (i 1).val
  let c2_i32_1979 : BitVec 32 := 2#32
  let v3300 : BitVec 32 := Scalar.muli arg1 c2_i32_1979
  let c0_i32_1980 : BitVec 32 := 0#32
  let v3301 : BitVec 32 := Scalar.addi v3300 c0_i32_1980
  let c256_i32_1981 : BitVec 32 := 256#32
  let v3302 : BitVec 32 := Scalar.muli v3301 c256_i32_1981
  let c216_i32 : BitVec 32 := 216#32
  let v3303 : BitVec 32 := Scalar.addi v3302 c216_i32
  let c8_i32_1985 : BitVec 32 := 8#32
  let v3308 : BitVec 32 := Scalar.muli v3303 c8_i32_1985
  v3308
def k0_off2935 (i : grid0.Coords) : Fin 1 → Nat :=
  let c1_i32_1982 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3304 : BitVec 32 := Scalar.subi c1_i32_1982 v9
  ![v3304.toNat]
def k0_off2936 (i : grid0.Coords) : Fin 3 → Nat :=
  let c1_i32_1982 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3304 : BitVec 32 := Scalar.subi c1_i32_1982 v9
  let arg1 : BitVec 32 := BitVec.ofNat 32 (i 1).val
  let c2_i32_1979 : BitVec 32 := 2#32
  let v3300 : BitVec 32 := Scalar.muli arg1 c2_i32_1979
  let c0_i32_1980 : BitVec 32 := 0#32
  let v3301 : BitVec 32 := Scalar.addi v3300 c0_i32_1980
  let c256_i32_1981 : BitVec 32 := 256#32
  let v3302 : BitVec 32 := Scalar.muli v3301 c256_i32_1981
  let c216_i32 : BitVec 32 := 216#32
  let v3303 : BitVec 32 := Scalar.addi v3302 c216_i32
  let c8_i32_1985 : BitVec 32 := 8#32
  let v3308 : BitVec 32 := Scalar.muli v3303 c8_i32_1985
  let v3309 : BitVec 32 := v3308
  let c0_i32_1986 : BitVec 32 := 0#32
  ![v3304.toNat, v3309.toNat, 0]
def k0_off2937 (v3306 : BitVec 32) : Fin 2 → Nat :=
  let v3307 : BitVec 32 := v3306
  let c0_i32_1987 : BitVec 32 := 0#32
  ![v3307.toNat, 0]

def k0_chk730 (i : grid0.Coords) (v3306 : BitVec 32) : Prop :=
  (∀ (k0_h3 : k0_cond3 i = 1#1), 8 ∣ (k0_mult1459 v3306).toNat) ∧
  (∀ (k0_h3 : k0_cond3 i = 1#1), ∀ a, (k0_off2937 v3306) a + S8x128.size a ≤ S131072x128.size a)
theorem k0_mult1459_dvd : ∀ (i : grid0.Coords) (v3306 : BitVec 32) (k0_hw730 : k0_chk730 i v3306), ∀ (k0_h3 : k0_cond3 i = 1#1), 8 ∣ (k0_mult1459 v3306).toNat := fun i v3306 k0_hw730 k0_h3 => k0_hw730.1 k0_h3
theorem k0_off2937_inb : ∀ (i : grid0.Coords) (v3306 : BitVec 32) (k0_hw730 : k0_chk730 i v3306), ∀ (k0_h3 : k0_cond3 i = 1#1), ∀ a, (k0_off2937 v3306) a + S8x128.size a ≤ S131072x128.size a := fun i v3306 k0_hw730 k0_h3 => k0_hw730.2 k0_h3

def k0_off2938 (i : grid0.Coords) : Fin 3 → Nat :=
  let c0_1992 : Index := 0#32
  let c0_1993 : Index := 0#32
  let arg1 : BitVec 32 := BitVec.ofNat 32 (i 1).val
  let c2_i32_1988 : BitVec 32 := 2#32
  let v3315 : BitVec 32 := Scalar.muli arg1 c2_i32_1988
  let c0_i32_1989 : BitVec 32 := 0#32
  let v3316 : BitVec 32 := Scalar.addi v3315 c0_i32_1989
  let c256_i32_1990 : BitVec 32 := 256#32
  let v3317 : BitVec 32 := Scalar.muli v3316 c256_i32_1990
  let c217_i32 : BitVec 32 := 217#32
  let v3318 : BitVec 32 := Scalar.addi v3317 c217_i32
  let v3320 : Index := Scalar.indexCast v3318
  ![0, 0, v3320.toNat]
def k0_mult1461 (v3321 : BitVec 32) : BitVec 32 :=
  v3321

def k0_mult1462 (i : grid0.Coords) : BitVec 32 :=
  let arg1 : BitVec 32 := BitVec.ofNat 32 (i 1).val
  let c2_i32_1988 : BitVec 32 := 2#32
  let v3315 : BitVec 32 := Scalar.muli arg1 c2_i32_1988
  let c0_i32_1989 : BitVec 32 := 0#32
  let v3316 : BitVec 32 := Scalar.addi v3315 c0_i32_1989
  let c256_i32_1990 : BitVec 32 := 256#32
  let v3317 : BitVec 32 := Scalar.muli v3316 c256_i32_1990
  let c217_i32 : BitVec 32 := 217#32
  let v3318 : BitVec 32 := Scalar.addi v3317 c217_i32
  let c8_i32_1994 : BitVec 32 := 8#32
  let v3323 : BitVec 32 := Scalar.muli v3318 c8_i32_1994
  v3323
def k0_off2939 (i : grid0.Coords) : Fin 1 → Nat :=
  let c1_i32_1991 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3319 : BitVec 32 := Scalar.subi c1_i32_1991 v9
  ![v3319.toNat]
def k0_off2940 (i : grid0.Coords) : Fin 3 → Nat :=
  let c1_i32_1991 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3319 : BitVec 32 := Scalar.subi c1_i32_1991 v9
  let arg1 : BitVec 32 := BitVec.ofNat 32 (i 1).val
  let c2_i32_1988 : BitVec 32 := 2#32
  let v3315 : BitVec 32 := Scalar.muli arg1 c2_i32_1988
  let c0_i32_1989 : BitVec 32 := 0#32
  let v3316 : BitVec 32 := Scalar.addi v3315 c0_i32_1989
  let c256_i32_1990 : BitVec 32 := 256#32
  let v3317 : BitVec 32 := Scalar.muli v3316 c256_i32_1990
  let c217_i32 : BitVec 32 := 217#32
  let v3318 : BitVec 32 := Scalar.addi v3317 c217_i32
  let c8_i32_1994 : BitVec 32 := 8#32
  let v3323 : BitVec 32 := Scalar.muli v3318 c8_i32_1994
  let v3324 : BitVec 32 := v3323
  let c0_i32_1995 : BitVec 32 := 0#32
  ![v3319.toNat, v3324.toNat, 0]
def k0_off2941 (v3321 : BitVec 32) : Fin 2 → Nat :=
  let v3322 : BitVec 32 := v3321
  let c0_i32_1996 : BitVec 32 := 0#32
  ![v3322.toNat, 0]

def k0_chk731 (i : grid0.Coords) (v3321 : BitVec 32) : Prop :=
  (∀ (k0_h3 : k0_cond3 i = 1#1), 8 ∣ (k0_mult1461 v3321).toNat) ∧
  (∀ (k0_h3 : k0_cond3 i = 1#1), ∀ a, (k0_off2941 v3321) a + S8x128.size a ≤ S131072x128.size a)
theorem k0_mult1461_dvd : ∀ (i : grid0.Coords) (v3321 : BitVec 32) (k0_hw731 : k0_chk731 i v3321), ∀ (k0_h3 : k0_cond3 i = 1#1), 8 ∣ (k0_mult1461 v3321).toNat := fun i v3321 k0_hw731 k0_h3 => k0_hw731.1 k0_h3
theorem k0_off2941_inb : ∀ (i : grid0.Coords) (v3321 : BitVec 32) (k0_hw731 : k0_chk731 i v3321), ∀ (k0_h3 : k0_cond3 i = 1#1), ∀ a, (k0_off2941 v3321) a + S8x128.size a ≤ S131072x128.size a := fun i v3321 k0_hw731 k0_h3 => k0_hw731.2 k0_h3

def k0_off2942 (i : grid0.Coords) : Fin 3 → Nat :=
  let c0_2001 : Index := 0#32
  let c0_2002 : Index := 0#32
  let arg1 : BitVec 32 := BitVec.ofNat 32 (i 1).val
  let c2_i32_1997 : BitVec 32 := 2#32
  let v3330 : BitVec 32 := Scalar.muli arg1 c2_i32_1997
  let c0_i32_1998 : BitVec 32 := 0#32
  let v3331 : BitVec 32 := Scalar.addi v3330 c0_i32_1998
  let c256_i32_1999 : BitVec 32 := 256#32
  let v3332 : BitVec 32 := Scalar.muli v3331 c256_i32_1999
  let c218_i32 : BitVec 32 := 218#32
  let v3333 : BitVec 32 := Scalar.addi v3332 c218_i32
  let v3335 : Index := Scalar.indexCast v3333
  ![0, 0, v3335.toNat]
def k0_mult1463 (v3336 : BitVec 32) : BitVec 32 :=
  v3336

def k0_mult1464 (i : grid0.Coords) : BitVec 32 :=
  let arg1 : BitVec 32 := BitVec.ofNat 32 (i 1).val
  let c2_i32_1997 : BitVec 32 := 2#32
  let v3330 : BitVec 32 := Scalar.muli arg1 c2_i32_1997
  let c0_i32_1998 : BitVec 32 := 0#32
  let v3331 : BitVec 32 := Scalar.addi v3330 c0_i32_1998
  let c256_i32_1999 : BitVec 32 := 256#32
  let v3332 : BitVec 32 := Scalar.muli v3331 c256_i32_1999
  let c218_i32 : BitVec 32 := 218#32
  let v3333 : BitVec 32 := Scalar.addi v3332 c218_i32
  let c8_i32_2003 : BitVec 32 := 8#32
  let v3338 : BitVec 32 := Scalar.muli v3333 c8_i32_2003
  v3338
def k0_off2943 (i : grid0.Coords) : Fin 1 → Nat :=
  let c1_i32_2000 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3334 : BitVec 32 := Scalar.subi c1_i32_2000 v9
  ![v3334.toNat]
def k0_off2944 (i : grid0.Coords) : Fin 3 → Nat :=
  let c1_i32_2000 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3334 : BitVec 32 := Scalar.subi c1_i32_2000 v9
  let arg1 : BitVec 32 := BitVec.ofNat 32 (i 1).val
  let c2_i32_1997 : BitVec 32 := 2#32
  let v3330 : BitVec 32 := Scalar.muli arg1 c2_i32_1997
  let c0_i32_1998 : BitVec 32 := 0#32
  let v3331 : BitVec 32 := Scalar.addi v3330 c0_i32_1998
  let c256_i32_1999 : BitVec 32 := 256#32
  let v3332 : BitVec 32 := Scalar.muli v3331 c256_i32_1999
  let c218_i32 : BitVec 32 := 218#32
  let v3333 : BitVec 32 := Scalar.addi v3332 c218_i32
  let c8_i32_2003 : BitVec 32 := 8#32
  let v3338 : BitVec 32 := Scalar.muli v3333 c8_i32_2003
  let v3339 : BitVec 32 := v3338
  let c0_i32_2004 : BitVec 32 := 0#32
  ![v3334.toNat, v3339.toNat, 0]
def k0_off2945 (v3336 : BitVec 32) : Fin 2 → Nat :=
  let v3337 : BitVec 32 := v3336
  let c0_i32_2005 : BitVec 32 := 0#32
  ![v3337.toNat, 0]

def k0_chk732 (i : grid0.Coords) (v3336 : BitVec 32) : Prop :=
  (∀ (k0_h3 : k0_cond3 i = 1#1), 8 ∣ (k0_mult1463 v3336).toNat) ∧
  (∀ (k0_h3 : k0_cond3 i = 1#1), ∀ a, (k0_off2945 v3336) a + S8x128.size a ≤ S131072x128.size a)
theorem k0_mult1463_dvd : ∀ (i : grid0.Coords) (v3336 : BitVec 32) (k0_hw732 : k0_chk732 i v3336), ∀ (k0_h3 : k0_cond3 i = 1#1), 8 ∣ (k0_mult1463 v3336).toNat := fun i v3336 k0_hw732 k0_h3 => k0_hw732.1 k0_h3
theorem k0_off2945_inb : ∀ (i : grid0.Coords) (v3336 : BitVec 32) (k0_hw732 : k0_chk732 i v3336), ∀ (k0_h3 : k0_cond3 i = 1#1), ∀ a, (k0_off2945 v3336) a + S8x128.size a ≤ S131072x128.size a := fun i v3336 k0_hw732 k0_h3 => k0_hw732.2 k0_h3

def k0_off2946 (i : grid0.Coords) : Fin 3 → Nat :=
  let c0_2010 : Index := 0#32
  let c0_2011 : Index := 0#32
  let arg1 : BitVec 32 := BitVec.ofNat 32 (i 1).val
  let c2_i32_2006 : BitVec 32 := 2#32
  let v3345 : BitVec 32 := Scalar.muli arg1 c2_i32_2006
  let c0_i32_2007 : BitVec 32 := 0#32
  let v3346 : BitVec 32 := Scalar.addi v3345 c0_i32_2007
  let c256_i32_2008 : BitVec 32 := 256#32
  let v3347 : BitVec 32 := Scalar.muli v3346 c256_i32_2008
  let c219_i32 : BitVec 32 := 219#32
  let v3348 : BitVec 32 := Scalar.addi v3347 c219_i32
  let v3350 : Index := Scalar.indexCast v3348
  ![0, 0, v3350.toNat]
def k0_mult1465 (v3351 : BitVec 32) : BitVec 32 :=
  v3351

def k0_mult1466 (i : grid0.Coords) : BitVec 32 :=
  let arg1 : BitVec 32 := BitVec.ofNat 32 (i 1).val
  let c2_i32_2006 : BitVec 32 := 2#32
  let v3345 : BitVec 32 := Scalar.muli arg1 c2_i32_2006
  let c0_i32_2007 : BitVec 32 := 0#32
  let v3346 : BitVec 32 := Scalar.addi v3345 c0_i32_2007
  let c256_i32_2008 : BitVec 32 := 256#32
  let v3347 : BitVec 32 := Scalar.muli v3346 c256_i32_2008
  let c219_i32 : BitVec 32 := 219#32
  let v3348 : BitVec 32 := Scalar.addi v3347 c219_i32
  let c8_i32_2012 : BitVec 32 := 8#32
  let v3353 : BitVec 32 := Scalar.muli v3348 c8_i32_2012
  v3353
def k0_off2947 (i : grid0.Coords) : Fin 1 → Nat :=
  let c1_i32_2009 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3349 : BitVec 32 := Scalar.subi c1_i32_2009 v9
  ![v3349.toNat]
def k0_off2948 (i : grid0.Coords) : Fin 3 → Nat :=
  let c1_i32_2009 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3349 : BitVec 32 := Scalar.subi c1_i32_2009 v9
  let arg1 : BitVec 32 := BitVec.ofNat 32 (i 1).val
  let c2_i32_2006 : BitVec 32 := 2#32
  let v3345 : BitVec 32 := Scalar.muli arg1 c2_i32_2006
  let c0_i32_2007 : BitVec 32 := 0#32
  let v3346 : BitVec 32 := Scalar.addi v3345 c0_i32_2007
  let c256_i32_2008 : BitVec 32 := 256#32
  let v3347 : BitVec 32 := Scalar.muli v3346 c256_i32_2008
  let c219_i32 : BitVec 32 := 219#32
  let v3348 : BitVec 32 := Scalar.addi v3347 c219_i32
  let c8_i32_2012 : BitVec 32 := 8#32
  let v3353 : BitVec 32 := Scalar.muli v3348 c8_i32_2012
  let v3354 : BitVec 32 := v3353
  let c0_i32_2013 : BitVec 32 := 0#32
  ![v3349.toNat, v3354.toNat, 0]
def k0_off2949 (v3351 : BitVec 32) : Fin 2 → Nat :=
  let v3352 : BitVec 32 := v3351
  let c0_i32_2014 : BitVec 32 := 0#32
  ![v3352.toNat, 0]

def k0_chk733 (i : grid0.Coords) (v3351 : BitVec 32) : Prop :=
  (∀ (k0_h3 : k0_cond3 i = 1#1), 8 ∣ (k0_mult1465 v3351).toNat) ∧
  (∀ (k0_h3 : k0_cond3 i = 1#1), ∀ a, (k0_off2949 v3351) a + S8x128.size a ≤ S131072x128.size a)
theorem k0_mult1465_dvd : ∀ (i : grid0.Coords) (v3351 : BitVec 32) (k0_hw733 : k0_chk733 i v3351), ∀ (k0_h3 : k0_cond3 i = 1#1), 8 ∣ (k0_mult1465 v3351).toNat := fun i v3351 k0_hw733 k0_h3 => k0_hw733.1 k0_h3
theorem k0_off2949_inb : ∀ (i : grid0.Coords) (v3351 : BitVec 32) (k0_hw733 : k0_chk733 i v3351), ∀ (k0_h3 : k0_cond3 i = 1#1), ∀ a, (k0_off2949 v3351) a + S8x128.size a ≤ S131072x128.size a := fun i v3351 k0_hw733 k0_h3 => k0_hw733.2 k0_h3

def k0_off2950 (i : grid0.Coords) : Fin 3 → Nat :=
  let c0_2019 : Index := 0#32
  let c0_2020 : Index := 0#32
  let arg1 : BitVec 32 := BitVec.ofNat 32 (i 1).val
  let c2_i32_2015 : BitVec 32 := 2#32
  let v3360 : BitVec 32 := Scalar.muli arg1 c2_i32_2015
  let c0_i32_2016 : BitVec 32 := 0#32
  let v3361 : BitVec 32 := Scalar.addi v3360 c0_i32_2016
  let c256_i32_2017 : BitVec 32 := 256#32
  let v3362 : BitVec 32 := Scalar.muli v3361 c256_i32_2017
  let c220_i32 : BitVec 32 := 220#32
  let v3363 : BitVec 32 := Scalar.addi v3362 c220_i32
  let v3365 : Index := Scalar.indexCast v3363
  ![0, 0, v3365.toNat]
def k0_mult1467 (v3366 : BitVec 32) : BitVec 32 :=
  v3366

def k0_mult1468 (i : grid0.Coords) : BitVec 32 :=
  let arg1 : BitVec 32 := BitVec.ofNat 32 (i 1).val
  let c2_i32_2015 : BitVec 32 := 2#32
  let v3360 : BitVec 32 := Scalar.muli arg1 c2_i32_2015
  let c0_i32_2016 : BitVec 32 := 0#32
  let v3361 : BitVec 32 := Scalar.addi v3360 c0_i32_2016
  let c256_i32_2017 : BitVec 32 := 256#32
  let v3362 : BitVec 32 := Scalar.muli v3361 c256_i32_2017
  let c220_i32 : BitVec 32 := 220#32
  let v3363 : BitVec 32 := Scalar.addi v3362 c220_i32
  let c8_i32_2021 : BitVec 32 := 8#32
  let v3368 : BitVec 32 := Scalar.muli v3363 c8_i32_2021
  v3368
def k0_off2951 (i : grid0.Coords) : Fin 1 → Nat :=
  let c1_i32_2018 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3364 : BitVec 32 := Scalar.subi c1_i32_2018 v9
  ![v3364.toNat]
def k0_off2952 (i : grid0.Coords) : Fin 3 → Nat :=
  let c1_i32_2018 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3364 : BitVec 32 := Scalar.subi c1_i32_2018 v9
  let arg1 : BitVec 32 := BitVec.ofNat 32 (i 1).val
  let c2_i32_2015 : BitVec 32 := 2#32
  let v3360 : BitVec 32 := Scalar.muli arg1 c2_i32_2015
  let c0_i32_2016 : BitVec 32 := 0#32
  let v3361 : BitVec 32 := Scalar.addi v3360 c0_i32_2016
  let c256_i32_2017 : BitVec 32 := 256#32
  let v3362 : BitVec 32 := Scalar.muli v3361 c256_i32_2017
  let c220_i32 : BitVec 32 := 220#32
  let v3363 : BitVec 32 := Scalar.addi v3362 c220_i32
  let c8_i32_2021 : BitVec 32 := 8#32
  let v3368 : BitVec 32 := Scalar.muli v3363 c8_i32_2021
  let v3369 : BitVec 32 := v3368
  let c0_i32_2022 : BitVec 32 := 0#32
  ![v3364.toNat, v3369.toNat, 0]
def k0_off2953 (v3366 : BitVec 32) : Fin 2 → Nat :=
  let v3367 : BitVec 32 := v3366
  let c0_i32_2023 : BitVec 32 := 0#32
  ![v3367.toNat, 0]

def k0_chk734 (i : grid0.Coords) (v3366 : BitVec 32) : Prop :=
  (∀ (k0_h3 : k0_cond3 i = 1#1), 8 ∣ (k0_mult1467 v3366).toNat) ∧
  (∀ (k0_h3 : k0_cond3 i = 1#1), ∀ a, (k0_off2953 v3366) a + S8x128.size a ≤ S131072x128.size a)
theorem k0_mult1467_dvd : ∀ (i : grid0.Coords) (v3366 : BitVec 32) (k0_hw734 : k0_chk734 i v3366), ∀ (k0_h3 : k0_cond3 i = 1#1), 8 ∣ (k0_mult1467 v3366).toNat := fun i v3366 k0_hw734 k0_h3 => k0_hw734.1 k0_h3
theorem k0_off2953_inb : ∀ (i : grid0.Coords) (v3366 : BitVec 32) (k0_hw734 : k0_chk734 i v3366), ∀ (k0_h3 : k0_cond3 i = 1#1), ∀ a, (k0_off2953 v3366) a + S8x128.size a ≤ S131072x128.size a := fun i v3366 k0_hw734 k0_h3 => k0_hw734.2 k0_h3

def k0_off2954 (i : grid0.Coords) : Fin 3 → Nat :=
  let c0_2028 : Index := 0#32
  let c0_2029 : Index := 0#32
  let arg1 : BitVec 32 := BitVec.ofNat 32 (i 1).val
  let c2_i32_2024 : BitVec 32 := 2#32
  let v3375 : BitVec 32 := Scalar.muli arg1 c2_i32_2024
  let c0_i32_2025 : BitVec 32 := 0#32
  let v3376 : BitVec 32 := Scalar.addi v3375 c0_i32_2025
  let c256_i32_2026 : BitVec 32 := 256#32
  let v3377 : BitVec 32 := Scalar.muli v3376 c256_i32_2026
  let c221_i32 : BitVec 32 := 221#32
  let v3378 : BitVec 32 := Scalar.addi v3377 c221_i32
  let v3380 : Index := Scalar.indexCast v3378
  ![0, 0, v3380.toNat]
def k0_mult1469 (v3381 : BitVec 32) : BitVec 32 :=
  v3381

def k0_mult1470 (i : grid0.Coords) : BitVec 32 :=
  let arg1 : BitVec 32 := BitVec.ofNat 32 (i 1).val
  let c2_i32_2024 : BitVec 32 := 2#32
  let v3375 : BitVec 32 := Scalar.muli arg1 c2_i32_2024
  let c0_i32_2025 : BitVec 32 := 0#32
  let v3376 : BitVec 32 := Scalar.addi v3375 c0_i32_2025
  let c256_i32_2026 : BitVec 32 := 256#32
  let v3377 : BitVec 32 := Scalar.muli v3376 c256_i32_2026
  let c221_i32 : BitVec 32 := 221#32
  let v3378 : BitVec 32 := Scalar.addi v3377 c221_i32
  let c8_i32_2030 : BitVec 32 := 8#32
  let v3383 : BitVec 32 := Scalar.muli v3378 c8_i32_2030
  v3383
def k0_off2955 (i : grid0.Coords) : Fin 1 → Nat :=
  let c1_i32_2027 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3379 : BitVec 32 := Scalar.subi c1_i32_2027 v9
  ![v3379.toNat]
def k0_off2956 (i : grid0.Coords) : Fin 3 → Nat :=
  let c1_i32_2027 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3379 : BitVec 32 := Scalar.subi c1_i32_2027 v9
  let arg1 : BitVec 32 := BitVec.ofNat 32 (i 1).val
  let c2_i32_2024 : BitVec 32 := 2#32
  let v3375 : BitVec 32 := Scalar.muli arg1 c2_i32_2024
  let c0_i32_2025 : BitVec 32 := 0#32
  let v3376 : BitVec 32 := Scalar.addi v3375 c0_i32_2025
  let c256_i32_2026 : BitVec 32 := 256#32
  let v3377 : BitVec 32 := Scalar.muli v3376 c256_i32_2026
  let c221_i32 : BitVec 32 := 221#32
  let v3378 : BitVec 32 := Scalar.addi v3377 c221_i32
  let c8_i32_2030 : BitVec 32 := 8#32
  let v3383 : BitVec 32 := Scalar.muli v3378 c8_i32_2030
  let v3384 : BitVec 32 := v3383
  let c0_i32_2031 : BitVec 32 := 0#32
  ![v3379.toNat, v3384.toNat, 0]
def k0_off2957 (v3381 : BitVec 32) : Fin 2 → Nat :=
  let v3382 : BitVec 32 := v3381
  let c0_i32_2032 : BitVec 32 := 0#32
  ![v3382.toNat, 0]

def k0_chk735 (i : grid0.Coords) (v3381 : BitVec 32) : Prop :=
  (∀ (k0_h3 : k0_cond3 i = 1#1), 8 ∣ (k0_mult1469 v3381).toNat) ∧
  (∀ (k0_h3 : k0_cond3 i = 1#1), ∀ a, (k0_off2957 v3381) a + S8x128.size a ≤ S131072x128.size a)
theorem k0_mult1469_dvd : ∀ (i : grid0.Coords) (v3381 : BitVec 32) (k0_hw735 : k0_chk735 i v3381), ∀ (k0_h3 : k0_cond3 i = 1#1), 8 ∣ (k0_mult1469 v3381).toNat := fun i v3381 k0_hw735 k0_h3 => k0_hw735.1 k0_h3
theorem k0_off2957_inb : ∀ (i : grid0.Coords) (v3381 : BitVec 32) (k0_hw735 : k0_chk735 i v3381), ∀ (k0_h3 : k0_cond3 i = 1#1), ∀ a, (k0_off2957 v3381) a + S8x128.size a ≤ S131072x128.size a := fun i v3381 k0_hw735 k0_h3 => k0_hw735.2 k0_h3

def k0_off2958 (i : grid0.Coords) : Fin 3 → Nat :=
  let c0_2037 : Index := 0#32
  let c0_2038 : Index := 0#32
  let arg1 : BitVec 32 := BitVec.ofNat 32 (i 1).val
  let c2_i32_2033 : BitVec 32 := 2#32
  let v3390 : BitVec 32 := Scalar.muli arg1 c2_i32_2033
  let c0_i32_2034 : BitVec 32 := 0#32
  let v3391 : BitVec 32 := Scalar.addi v3390 c0_i32_2034
  let c256_i32_2035 : BitVec 32 := 256#32
  let v3392 : BitVec 32 := Scalar.muli v3391 c256_i32_2035
  let c222_i32 : BitVec 32 := 222#32
  let v3393 : BitVec 32 := Scalar.addi v3392 c222_i32
  let v3395 : Index := Scalar.indexCast v3393
  ![0, 0, v3395.toNat]
def k0_mult1471 (v3396 : BitVec 32) : BitVec 32 :=
  v3396

def k0_mult1472 (i : grid0.Coords) : BitVec 32 :=
  let arg1 : BitVec 32 := BitVec.ofNat 32 (i 1).val
  let c2_i32_2033 : BitVec 32 := 2#32
  let v3390 : BitVec 32 := Scalar.muli arg1 c2_i32_2033
  let c0_i32_2034 : BitVec 32 := 0#32
  let v3391 : BitVec 32 := Scalar.addi v3390 c0_i32_2034
  let c256_i32_2035 : BitVec 32 := 256#32
  let v3392 : BitVec 32 := Scalar.muli v3391 c256_i32_2035
  let c222_i32 : BitVec 32 := 222#32
  let v3393 : BitVec 32 := Scalar.addi v3392 c222_i32
  let c8_i32_2039 : BitVec 32 := 8#32
  let v3398 : BitVec 32 := Scalar.muli v3393 c8_i32_2039
  v3398
def k0_off2959 (i : grid0.Coords) : Fin 1 → Nat :=
  let c1_i32_2036 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3394 : BitVec 32 := Scalar.subi c1_i32_2036 v9
  ![v3394.toNat]
def k0_off2960 (i : grid0.Coords) : Fin 3 → Nat :=
  let c1_i32_2036 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3394 : BitVec 32 := Scalar.subi c1_i32_2036 v9
  let arg1 : BitVec 32 := BitVec.ofNat 32 (i 1).val
  let c2_i32_2033 : BitVec 32 := 2#32
  let v3390 : BitVec 32 := Scalar.muli arg1 c2_i32_2033
  let c0_i32_2034 : BitVec 32 := 0#32
  let v3391 : BitVec 32 := Scalar.addi v3390 c0_i32_2034
  let c256_i32_2035 : BitVec 32 := 256#32
  let v3392 : BitVec 32 := Scalar.muli v3391 c256_i32_2035
  let c222_i32 : BitVec 32 := 222#32
  let v3393 : BitVec 32 := Scalar.addi v3392 c222_i32
  let c8_i32_2039 : BitVec 32 := 8#32
  let v3398 : BitVec 32 := Scalar.muli v3393 c8_i32_2039
  let v3399 : BitVec 32 := v3398
  let c0_i32_2040 : BitVec 32 := 0#32
  ![v3394.toNat, v3399.toNat, 0]
def k0_off2961 (v3396 : BitVec 32) : Fin 2 → Nat :=
  let v3397 : BitVec 32 := v3396
  let c0_i32_2041 : BitVec 32 := 0#32
  ![v3397.toNat, 0]

def k0_chk736 (i : grid0.Coords) (v3396 : BitVec 32) : Prop :=
  (∀ (k0_h3 : k0_cond3 i = 1#1), 8 ∣ (k0_mult1471 v3396).toNat) ∧
  (∀ (k0_h3 : k0_cond3 i = 1#1), ∀ a, (k0_off2961 v3396) a + S8x128.size a ≤ S131072x128.size a)
theorem k0_mult1471_dvd : ∀ (i : grid0.Coords) (v3396 : BitVec 32) (k0_hw736 : k0_chk736 i v3396), ∀ (k0_h3 : k0_cond3 i = 1#1), 8 ∣ (k0_mult1471 v3396).toNat := fun i v3396 k0_hw736 k0_h3 => k0_hw736.1 k0_h3
theorem k0_off2961_inb : ∀ (i : grid0.Coords) (v3396 : BitVec 32) (k0_hw736 : k0_chk736 i v3396), ∀ (k0_h3 : k0_cond3 i = 1#1), ∀ a, (k0_off2961 v3396) a + S8x128.size a ≤ S131072x128.size a := fun i v3396 k0_hw736 k0_h3 => k0_hw736.2 k0_h3

def k0_off2962 (i : grid0.Coords) : Fin 3 → Nat :=
  let c0_2046 : Index := 0#32
  let c0_2047 : Index := 0#32
  let arg1 : BitVec 32 := BitVec.ofNat 32 (i 1).val
  let c2_i32_2042 : BitVec 32 := 2#32
  let v3405 : BitVec 32 := Scalar.muli arg1 c2_i32_2042
  let c0_i32_2043 : BitVec 32 := 0#32
  let v3406 : BitVec 32 := Scalar.addi v3405 c0_i32_2043
  let c256_i32_2044 : BitVec 32 := 256#32
  let v3407 : BitVec 32 := Scalar.muli v3406 c256_i32_2044
  let c223_i32 : BitVec 32 := 223#32
  let v3408 : BitVec 32 := Scalar.addi v3407 c223_i32
  let v3410 : Index := Scalar.indexCast v3408
  ![0, 0, v3410.toNat]
def k0_mult1473 (v3411 : BitVec 32) : BitVec 32 :=
  v3411

def k0_mult1474 (i : grid0.Coords) : BitVec 32 :=
  let arg1 : BitVec 32 := BitVec.ofNat 32 (i 1).val
  let c2_i32_2042 : BitVec 32 := 2#32
  let v3405 : BitVec 32 := Scalar.muli arg1 c2_i32_2042
  let c0_i32_2043 : BitVec 32 := 0#32
  let v3406 : BitVec 32 := Scalar.addi v3405 c0_i32_2043
  let c256_i32_2044 : BitVec 32 := 256#32
  let v3407 : BitVec 32 := Scalar.muli v3406 c256_i32_2044
  let c223_i32 : BitVec 32 := 223#32
  let v3408 : BitVec 32 := Scalar.addi v3407 c223_i32
  let c8_i32_2048 : BitVec 32 := 8#32
  let v3413 : BitVec 32 := Scalar.muli v3408 c8_i32_2048
  v3413
def k0_off2963 (i : grid0.Coords) : Fin 1 → Nat :=
  let c1_i32_2045 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3409 : BitVec 32 := Scalar.subi c1_i32_2045 v9
  ![v3409.toNat]
def k0_off2964 (i : grid0.Coords) : Fin 3 → Nat :=
  let c1_i32_2045 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3409 : BitVec 32 := Scalar.subi c1_i32_2045 v9
  let arg1 : BitVec 32 := BitVec.ofNat 32 (i 1).val
  let c2_i32_2042 : BitVec 32 := 2#32
  let v3405 : BitVec 32 := Scalar.muli arg1 c2_i32_2042
  let c0_i32_2043 : BitVec 32 := 0#32
  let v3406 : BitVec 32 := Scalar.addi v3405 c0_i32_2043
  let c256_i32_2044 : BitVec 32 := 256#32
  let v3407 : BitVec 32 := Scalar.muli v3406 c256_i32_2044
  let c223_i32 : BitVec 32 := 223#32
  let v3408 : BitVec 32 := Scalar.addi v3407 c223_i32
  let c8_i32_2048 : BitVec 32 := 8#32
  let v3413 : BitVec 32 := Scalar.muli v3408 c8_i32_2048
  let v3414 : BitVec 32 := v3413
  let c0_i32_2049 : BitVec 32 := 0#32
  ![v3409.toNat, v3414.toNat, 0]
def k0_off2965 (v3411 : BitVec 32) : Fin 2 → Nat :=
  let v3412 : BitVec 32 := v3411
  let c0_i32_2050 : BitVec 32 := 0#32
  ![v3412.toNat, 0]

def k0_chk737 (i : grid0.Coords) (v3411 : BitVec 32) : Prop :=
  (∀ (k0_h3 : k0_cond3 i = 1#1), 8 ∣ (k0_mult1473 v3411).toNat) ∧
  (∀ (k0_h3 : k0_cond3 i = 1#1), ∀ a, (k0_off2965 v3411) a + S8x128.size a ≤ S131072x128.size a)
theorem k0_mult1473_dvd : ∀ (i : grid0.Coords) (v3411 : BitVec 32) (k0_hw737 : k0_chk737 i v3411), ∀ (k0_h3 : k0_cond3 i = 1#1), 8 ∣ (k0_mult1473 v3411).toNat := fun i v3411 k0_hw737 k0_h3 => k0_hw737.1 k0_h3
theorem k0_off2965_inb : ∀ (i : grid0.Coords) (v3411 : BitVec 32) (k0_hw737 : k0_chk737 i v3411), ∀ (k0_h3 : k0_cond3 i = 1#1), ∀ a, (k0_off2965 v3411) a + S8x128.size a ≤ S131072x128.size a := fun i v3411 k0_hw737 k0_h3 => k0_hw737.2 k0_h3

def k0_off2966 (i : grid0.Coords) : Fin 3 → Nat :=
  let c0_2055 : Index := 0#32
  let c0_2056 : Index := 0#32
  let arg1 : BitVec 32 := BitVec.ofNat 32 (i 1).val
  let c2_i32_2051 : BitVec 32 := 2#32
  let v3420 : BitVec 32 := Scalar.muli arg1 c2_i32_2051
  let c0_i32_2052 : BitVec 32 := 0#32
  let v3421 : BitVec 32 := Scalar.addi v3420 c0_i32_2052
  let c256_i32_2053 : BitVec 32 := 256#32
  let v3422 : BitVec 32 := Scalar.muli v3421 c256_i32_2053
  let c224_i32 : BitVec 32 := 224#32
  let v3423 : BitVec 32 := Scalar.addi v3422 c224_i32
  let v3425 : Index := Scalar.indexCast v3423
  ![0, 0, v3425.toNat]
def k0_mult1475 (v3426 : BitVec 32) : BitVec 32 :=
  v3426

def k0_mult1476 (i : grid0.Coords) : BitVec 32 :=
  let arg1 : BitVec 32 := BitVec.ofNat 32 (i 1).val
  let c2_i32_2051 : BitVec 32 := 2#32
  let v3420 : BitVec 32 := Scalar.muli arg1 c2_i32_2051
  let c0_i32_2052 : BitVec 32 := 0#32
  let v3421 : BitVec 32 := Scalar.addi v3420 c0_i32_2052
  let c256_i32_2053 : BitVec 32 := 256#32
  let v3422 : BitVec 32 := Scalar.muli v3421 c256_i32_2053
  let c224_i32 : BitVec 32 := 224#32
  let v3423 : BitVec 32 := Scalar.addi v3422 c224_i32
  let c8_i32_2057 : BitVec 32 := 8#32
  let v3428 : BitVec 32 := Scalar.muli v3423 c8_i32_2057
  v3428
def k0_off2967 (i : grid0.Coords) : Fin 1 → Nat :=
  let c1_i32_2054 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3424 : BitVec 32 := Scalar.subi c1_i32_2054 v9
  ![v3424.toNat]
def k0_off2968 (i : grid0.Coords) : Fin 3 → Nat :=
  let c1_i32_2054 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3424 : BitVec 32 := Scalar.subi c1_i32_2054 v9
  let arg1 : BitVec 32 := BitVec.ofNat 32 (i 1).val
  let c2_i32_2051 : BitVec 32 := 2#32
  let v3420 : BitVec 32 := Scalar.muli arg1 c2_i32_2051
  let c0_i32_2052 : BitVec 32 := 0#32
  let v3421 : BitVec 32 := Scalar.addi v3420 c0_i32_2052
  let c256_i32_2053 : BitVec 32 := 256#32
  let v3422 : BitVec 32 := Scalar.muli v3421 c256_i32_2053
  let c224_i32 : BitVec 32 := 224#32
  let v3423 : BitVec 32 := Scalar.addi v3422 c224_i32
  let c8_i32_2057 : BitVec 32 := 8#32
  let v3428 : BitVec 32 := Scalar.muli v3423 c8_i32_2057
  let v3429 : BitVec 32 := v3428
  let c0_i32_2058 : BitVec 32 := 0#32
  ![v3424.toNat, v3429.toNat, 0]
def k0_off2969 (v3426 : BitVec 32) : Fin 2 → Nat :=
  let v3427 : BitVec 32 := v3426
  let c0_i32_2059 : BitVec 32 := 0#32
  ![v3427.toNat, 0]

def k0_chk738 (i : grid0.Coords) (v3426 : BitVec 32) : Prop :=
  (∀ (k0_h3 : k0_cond3 i = 1#1), 8 ∣ (k0_mult1475 v3426).toNat) ∧
  (∀ (k0_h3 : k0_cond3 i = 1#1), ∀ a, (k0_off2969 v3426) a + S8x128.size a ≤ S131072x128.size a)
theorem k0_mult1475_dvd : ∀ (i : grid0.Coords) (v3426 : BitVec 32) (k0_hw738 : k0_chk738 i v3426), ∀ (k0_h3 : k0_cond3 i = 1#1), 8 ∣ (k0_mult1475 v3426).toNat := fun i v3426 k0_hw738 k0_h3 => k0_hw738.1 k0_h3
theorem k0_off2969_inb : ∀ (i : grid0.Coords) (v3426 : BitVec 32) (k0_hw738 : k0_chk738 i v3426), ∀ (k0_h3 : k0_cond3 i = 1#1), ∀ a, (k0_off2969 v3426) a + S8x128.size a ≤ S131072x128.size a := fun i v3426 k0_hw738 k0_h3 => k0_hw738.2 k0_h3

def k0_off2970 (i : grid0.Coords) : Fin 3 → Nat :=
  let c0_2064 : Index := 0#32
  let c0_2065 : Index := 0#32
  let arg1 : BitVec 32 := BitVec.ofNat 32 (i 1).val
  let c2_i32_2060 : BitVec 32 := 2#32
  let v3435 : BitVec 32 := Scalar.muli arg1 c2_i32_2060
  let c0_i32_2061 : BitVec 32 := 0#32
  let v3436 : BitVec 32 := Scalar.addi v3435 c0_i32_2061
  let c256_i32_2062 : BitVec 32 := 256#32
  let v3437 : BitVec 32 := Scalar.muli v3436 c256_i32_2062
  let c225_i32 : BitVec 32 := 225#32
  let v3438 : BitVec 32 := Scalar.addi v3437 c225_i32
  let v3440 : Index := Scalar.indexCast v3438
  ![0, 0, v3440.toNat]
def k0_mult1477 (v3441 : BitVec 32) : BitVec 32 :=
  v3441

def k0_mult1478 (i : grid0.Coords) : BitVec 32 :=
  let arg1 : BitVec 32 := BitVec.ofNat 32 (i 1).val
  let c2_i32_2060 : BitVec 32 := 2#32
  let v3435 : BitVec 32 := Scalar.muli arg1 c2_i32_2060
  let c0_i32_2061 : BitVec 32 := 0#32
  let v3436 : BitVec 32 := Scalar.addi v3435 c0_i32_2061
  let c256_i32_2062 : BitVec 32 := 256#32
  let v3437 : BitVec 32 := Scalar.muli v3436 c256_i32_2062
  let c225_i32 : BitVec 32 := 225#32
  let v3438 : BitVec 32 := Scalar.addi v3437 c225_i32
  let c8_i32_2066 : BitVec 32 := 8#32
  let v3443 : BitVec 32 := Scalar.muli v3438 c8_i32_2066
  v3443
def k0_off2971 (i : grid0.Coords) : Fin 1 → Nat :=
  let c1_i32_2063 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3439 : BitVec 32 := Scalar.subi c1_i32_2063 v9
  ![v3439.toNat]
def k0_off2972 (i : grid0.Coords) : Fin 3 → Nat :=
  let c1_i32_2063 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3439 : BitVec 32 := Scalar.subi c1_i32_2063 v9
  let arg1 : BitVec 32 := BitVec.ofNat 32 (i 1).val
  let c2_i32_2060 : BitVec 32 := 2#32
  let v3435 : BitVec 32 := Scalar.muli arg1 c2_i32_2060
  let c0_i32_2061 : BitVec 32 := 0#32
  let v3436 : BitVec 32 := Scalar.addi v3435 c0_i32_2061
  let c256_i32_2062 : BitVec 32 := 256#32
  let v3437 : BitVec 32 := Scalar.muli v3436 c256_i32_2062
  let c225_i32 : BitVec 32 := 225#32
  let v3438 : BitVec 32 := Scalar.addi v3437 c225_i32
  let c8_i32_2066 : BitVec 32 := 8#32
  let v3443 : BitVec 32 := Scalar.muli v3438 c8_i32_2066
  let v3444 : BitVec 32 := v3443
  let c0_i32_2067 : BitVec 32 := 0#32
  ![v3439.toNat, v3444.toNat, 0]
def k0_off2973 (v3441 : BitVec 32) : Fin 2 → Nat :=
  let v3442 : BitVec 32 := v3441
  let c0_i32_2068 : BitVec 32 := 0#32
  ![v3442.toNat, 0]

def k0_chk739 (i : grid0.Coords) (v3441 : BitVec 32) : Prop :=
  (∀ (k0_h3 : k0_cond3 i = 1#1), 8 ∣ (k0_mult1477 v3441).toNat) ∧
  (∀ (k0_h3 : k0_cond3 i = 1#1), ∀ a, (k0_off2973 v3441) a + S8x128.size a ≤ S131072x128.size a)
theorem k0_mult1477_dvd : ∀ (i : grid0.Coords) (v3441 : BitVec 32) (k0_hw739 : k0_chk739 i v3441), ∀ (k0_h3 : k0_cond3 i = 1#1), 8 ∣ (k0_mult1477 v3441).toNat := fun i v3441 k0_hw739 k0_h3 => k0_hw739.1 k0_h3
theorem k0_off2973_inb : ∀ (i : grid0.Coords) (v3441 : BitVec 32) (k0_hw739 : k0_chk739 i v3441), ∀ (k0_h3 : k0_cond3 i = 1#1), ∀ a, (k0_off2973 v3441) a + S8x128.size a ≤ S131072x128.size a := fun i v3441 k0_hw739 k0_h3 => k0_hw739.2 k0_h3

def k0_off2974 (i : grid0.Coords) : Fin 3 → Nat :=
  let c0_2073 : Index := 0#32
  let c0_2074 : Index := 0#32
  let arg1 : BitVec 32 := BitVec.ofNat 32 (i 1).val
  let c2_i32_2069 : BitVec 32 := 2#32
  let v3450 : BitVec 32 := Scalar.muli arg1 c2_i32_2069
  let c0_i32_2070 : BitVec 32 := 0#32
  let v3451 : BitVec 32 := Scalar.addi v3450 c0_i32_2070
  let c256_i32_2071 : BitVec 32 := 256#32
  let v3452 : BitVec 32 := Scalar.muli v3451 c256_i32_2071
  let c226_i32 : BitVec 32 := 226#32
  let v3453 : BitVec 32 := Scalar.addi v3452 c226_i32
  let v3455 : Index := Scalar.indexCast v3453
  ![0, 0, v3455.toNat]
def k0_mult1479 (v3456 : BitVec 32) : BitVec 32 :=
  v3456

def k0_mult1480 (i : grid0.Coords) : BitVec 32 :=
  let arg1 : BitVec 32 := BitVec.ofNat 32 (i 1).val
  let c2_i32_2069 : BitVec 32 := 2#32
  let v3450 : BitVec 32 := Scalar.muli arg1 c2_i32_2069
  let c0_i32_2070 : BitVec 32 := 0#32
  let v3451 : BitVec 32 := Scalar.addi v3450 c0_i32_2070
  let c256_i32_2071 : BitVec 32 := 256#32
  let v3452 : BitVec 32 := Scalar.muli v3451 c256_i32_2071
  let c226_i32 : BitVec 32 := 226#32
  let v3453 : BitVec 32 := Scalar.addi v3452 c226_i32
  let c8_i32_2075 : BitVec 32 := 8#32
  let v3458 : BitVec 32 := Scalar.muli v3453 c8_i32_2075
  v3458
def k0_off2975 (i : grid0.Coords) : Fin 1 → Nat :=
  let c1_i32_2072 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3454 : BitVec 32 := Scalar.subi c1_i32_2072 v9
  ![v3454.toNat]
def k0_off2976 (i : grid0.Coords) : Fin 3 → Nat :=
  let c1_i32_2072 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3454 : BitVec 32 := Scalar.subi c1_i32_2072 v9
  let arg1 : BitVec 32 := BitVec.ofNat 32 (i 1).val
  let c2_i32_2069 : BitVec 32 := 2#32
  let v3450 : BitVec 32 := Scalar.muli arg1 c2_i32_2069
  let c0_i32_2070 : BitVec 32 := 0#32
  let v3451 : BitVec 32 := Scalar.addi v3450 c0_i32_2070
  let c256_i32_2071 : BitVec 32 := 256#32
  let v3452 : BitVec 32 := Scalar.muli v3451 c256_i32_2071
  let c226_i32 : BitVec 32 := 226#32
  let v3453 : BitVec 32 := Scalar.addi v3452 c226_i32
  let c8_i32_2075 : BitVec 32 := 8#32
  let v3458 : BitVec 32 := Scalar.muli v3453 c8_i32_2075
  let v3459 : BitVec 32 := v3458
  let c0_i32_2076 : BitVec 32 := 0#32
  ![v3454.toNat, v3459.toNat, 0]
def k0_off2977 (v3456 : BitVec 32) : Fin 2 → Nat :=
  let v3457 : BitVec 32 := v3456
  let c0_i32_2077 : BitVec 32 := 0#32
  ![v3457.toNat, 0]

def k0_chk740 (i : grid0.Coords) (v3456 : BitVec 32) : Prop :=
  (∀ (k0_h3 : k0_cond3 i = 1#1), 8 ∣ (k0_mult1479 v3456).toNat) ∧
  (∀ (k0_h3 : k0_cond3 i = 1#1), ∀ a, (k0_off2977 v3456) a + S8x128.size a ≤ S131072x128.size a)
theorem k0_mult1479_dvd : ∀ (i : grid0.Coords) (v3456 : BitVec 32) (k0_hw740 : k0_chk740 i v3456), ∀ (k0_h3 : k0_cond3 i = 1#1), 8 ∣ (k0_mult1479 v3456).toNat := fun i v3456 k0_hw740 k0_h3 => k0_hw740.1 k0_h3
theorem k0_off2977_inb : ∀ (i : grid0.Coords) (v3456 : BitVec 32) (k0_hw740 : k0_chk740 i v3456), ∀ (k0_h3 : k0_cond3 i = 1#1), ∀ a, (k0_off2977 v3456) a + S8x128.size a ≤ S131072x128.size a := fun i v3456 k0_hw740 k0_h3 => k0_hw740.2 k0_h3

def k0_off2978 (i : grid0.Coords) : Fin 3 → Nat :=
  let c0_2082 : Index := 0#32
  let c0_2083 : Index := 0#32
  let arg1 : BitVec 32 := BitVec.ofNat 32 (i 1).val
  let c2_i32_2078 : BitVec 32 := 2#32
  let v3465 : BitVec 32 := Scalar.muli arg1 c2_i32_2078
  let c0_i32_2079 : BitVec 32 := 0#32
  let v3466 : BitVec 32 := Scalar.addi v3465 c0_i32_2079
  let c256_i32_2080 : BitVec 32 := 256#32
  let v3467 : BitVec 32 := Scalar.muli v3466 c256_i32_2080
  let c227_i32 : BitVec 32 := 227#32
  let v3468 : BitVec 32 := Scalar.addi v3467 c227_i32
  let v3470 : Index := Scalar.indexCast v3468
  ![0, 0, v3470.toNat]
def k0_mult1481 (v3471 : BitVec 32) : BitVec 32 :=
  v3471

def k0_mult1482 (i : grid0.Coords) : BitVec 32 :=
  let arg1 : BitVec 32 := BitVec.ofNat 32 (i 1).val
  let c2_i32_2078 : BitVec 32 := 2#32
  let v3465 : BitVec 32 := Scalar.muli arg1 c2_i32_2078
  let c0_i32_2079 : BitVec 32 := 0#32
  let v3466 : BitVec 32 := Scalar.addi v3465 c0_i32_2079
  let c256_i32_2080 : BitVec 32 := 256#32
  let v3467 : BitVec 32 := Scalar.muli v3466 c256_i32_2080
  let c227_i32 : BitVec 32 := 227#32
  let v3468 : BitVec 32 := Scalar.addi v3467 c227_i32
  let c8_i32_2084 : BitVec 32 := 8#32
  let v3473 : BitVec 32 := Scalar.muli v3468 c8_i32_2084
  v3473
def k0_off2979 (i : grid0.Coords) : Fin 1 → Nat :=
  let c1_i32_2081 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3469 : BitVec 32 := Scalar.subi c1_i32_2081 v9
  ![v3469.toNat]
def k0_off2980 (i : grid0.Coords) : Fin 3 → Nat :=
  let c1_i32_2081 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3469 : BitVec 32 := Scalar.subi c1_i32_2081 v9
  let arg1 : BitVec 32 := BitVec.ofNat 32 (i 1).val
  let c2_i32_2078 : BitVec 32 := 2#32
  let v3465 : BitVec 32 := Scalar.muli arg1 c2_i32_2078
  let c0_i32_2079 : BitVec 32 := 0#32
  let v3466 : BitVec 32 := Scalar.addi v3465 c0_i32_2079
  let c256_i32_2080 : BitVec 32 := 256#32
  let v3467 : BitVec 32 := Scalar.muli v3466 c256_i32_2080
  let c227_i32 : BitVec 32 := 227#32
  let v3468 : BitVec 32 := Scalar.addi v3467 c227_i32
  let c8_i32_2084 : BitVec 32 := 8#32
  let v3473 : BitVec 32 := Scalar.muli v3468 c8_i32_2084
  let v3474 : BitVec 32 := v3473
  let c0_i32_2085 : BitVec 32 := 0#32
  ![v3469.toNat, v3474.toNat, 0]
def k0_off2981 (v3471 : BitVec 32) : Fin 2 → Nat :=
  let v3472 : BitVec 32 := v3471
  let c0_i32_2086 : BitVec 32 := 0#32
  ![v3472.toNat, 0]

def k0_chk741 (i : grid0.Coords) (v3471 : BitVec 32) : Prop :=
  (∀ (k0_h3 : k0_cond3 i = 1#1), 8 ∣ (k0_mult1481 v3471).toNat) ∧
  (∀ (k0_h3 : k0_cond3 i = 1#1), ∀ a, (k0_off2981 v3471) a + S8x128.size a ≤ S131072x128.size a)
theorem k0_mult1481_dvd : ∀ (i : grid0.Coords) (v3471 : BitVec 32) (k0_hw741 : k0_chk741 i v3471), ∀ (k0_h3 : k0_cond3 i = 1#1), 8 ∣ (k0_mult1481 v3471).toNat := fun i v3471 k0_hw741 k0_h3 => k0_hw741.1 k0_h3
theorem k0_off2981_inb : ∀ (i : grid0.Coords) (v3471 : BitVec 32) (k0_hw741 : k0_chk741 i v3471), ∀ (k0_h3 : k0_cond3 i = 1#1), ∀ a, (k0_off2981 v3471) a + S8x128.size a ≤ S131072x128.size a := fun i v3471 k0_hw741 k0_h3 => k0_hw741.2 k0_h3

def k0_off2982 (i : grid0.Coords) : Fin 3 → Nat :=
  let c0_2091 : Index := 0#32
  let c0_2092 : Index := 0#32
  let arg1 : BitVec 32 := BitVec.ofNat 32 (i 1).val
  let c2_i32_2087 : BitVec 32 := 2#32
  let v3480 : BitVec 32 := Scalar.muli arg1 c2_i32_2087
  let c0_i32_2088 : BitVec 32 := 0#32
  let v3481 : BitVec 32 := Scalar.addi v3480 c0_i32_2088
  let c256_i32_2089 : BitVec 32 := 256#32
  let v3482 : BitVec 32 := Scalar.muli v3481 c256_i32_2089
  let c228_i32 : BitVec 32 := 228#32
  let v3483 : BitVec 32 := Scalar.addi v3482 c228_i32
  let v3485 : Index := Scalar.indexCast v3483
  ![0, 0, v3485.toNat]
def k0_mult1483 (v3486 : BitVec 32) : BitVec 32 :=
  v3486

def k0_mult1484 (i : grid0.Coords) : BitVec 32 :=
  let arg1 : BitVec 32 := BitVec.ofNat 32 (i 1).val
  let c2_i32_2087 : BitVec 32 := 2#32
  let v3480 : BitVec 32 := Scalar.muli arg1 c2_i32_2087
  let c0_i32_2088 : BitVec 32 := 0#32
  let v3481 : BitVec 32 := Scalar.addi v3480 c0_i32_2088
  let c256_i32_2089 : BitVec 32 := 256#32
  let v3482 : BitVec 32 := Scalar.muli v3481 c256_i32_2089
  let c228_i32 : BitVec 32 := 228#32
  let v3483 : BitVec 32 := Scalar.addi v3482 c228_i32
  let c8_i32_2093 : BitVec 32 := 8#32
  let v3488 : BitVec 32 := Scalar.muli v3483 c8_i32_2093
  v3488
def k0_off2983 (i : grid0.Coords) : Fin 1 → Nat :=
  let c1_i32_2090 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3484 : BitVec 32 := Scalar.subi c1_i32_2090 v9
  ![v3484.toNat]
def k0_off2984 (i : grid0.Coords) : Fin 3 → Nat :=
  let c1_i32_2090 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3484 : BitVec 32 := Scalar.subi c1_i32_2090 v9
  let arg1 : BitVec 32 := BitVec.ofNat 32 (i 1).val
  let c2_i32_2087 : BitVec 32 := 2#32
  let v3480 : BitVec 32 := Scalar.muli arg1 c2_i32_2087
  let c0_i32_2088 : BitVec 32 := 0#32
  let v3481 : BitVec 32 := Scalar.addi v3480 c0_i32_2088
  let c256_i32_2089 : BitVec 32 := 256#32
  let v3482 : BitVec 32 := Scalar.muli v3481 c256_i32_2089
  let c228_i32 : BitVec 32 := 228#32
  let v3483 : BitVec 32 := Scalar.addi v3482 c228_i32
  let c8_i32_2093 : BitVec 32 := 8#32
  let v3488 : BitVec 32 := Scalar.muli v3483 c8_i32_2093
  let v3489 : BitVec 32 := v3488
  let c0_i32_2094 : BitVec 32 := 0#32
  ![v3484.toNat, v3489.toNat, 0]
def k0_off2985 (v3486 : BitVec 32) : Fin 2 → Nat :=
  let v3487 : BitVec 32 := v3486
  let c0_i32_2095 : BitVec 32 := 0#32
  ![v3487.toNat, 0]

def k0_chk742 (i : grid0.Coords) (v3486 : BitVec 32) : Prop :=
  (∀ (k0_h3 : k0_cond3 i = 1#1), 8 ∣ (k0_mult1483 v3486).toNat) ∧
  (∀ (k0_h3 : k0_cond3 i = 1#1), ∀ a, (k0_off2985 v3486) a + S8x128.size a ≤ S131072x128.size a)
theorem k0_mult1483_dvd : ∀ (i : grid0.Coords) (v3486 : BitVec 32) (k0_hw742 : k0_chk742 i v3486), ∀ (k0_h3 : k0_cond3 i = 1#1), 8 ∣ (k0_mult1483 v3486).toNat := fun i v3486 k0_hw742 k0_h3 => k0_hw742.1 k0_h3
theorem k0_off2985_inb : ∀ (i : grid0.Coords) (v3486 : BitVec 32) (k0_hw742 : k0_chk742 i v3486), ∀ (k0_h3 : k0_cond3 i = 1#1), ∀ a, (k0_off2985 v3486) a + S8x128.size a ≤ S131072x128.size a := fun i v3486 k0_hw742 k0_h3 => k0_hw742.2 k0_h3

def k0_off2986 (i : grid0.Coords) : Fin 3 → Nat :=
  let c0_2100 : Index := 0#32
  let c0_2101 : Index := 0#32
  let arg1 : BitVec 32 := BitVec.ofNat 32 (i 1).val
  let c2_i32_2096 : BitVec 32 := 2#32
  let v3495 : BitVec 32 := Scalar.muli arg1 c2_i32_2096
  let c0_i32_2097 : BitVec 32 := 0#32
  let v3496 : BitVec 32 := Scalar.addi v3495 c0_i32_2097
  let c256_i32_2098 : BitVec 32 := 256#32
  let v3497 : BitVec 32 := Scalar.muli v3496 c256_i32_2098
  let c229_i32 : BitVec 32 := 229#32
  let v3498 : BitVec 32 := Scalar.addi v3497 c229_i32
  let v3500 : Index := Scalar.indexCast v3498
  ![0, 0, v3500.toNat]
def k0_mult1485 (v3501 : BitVec 32) : BitVec 32 :=
  v3501

def k0_mult1486 (i : grid0.Coords) : BitVec 32 :=
  let arg1 : BitVec 32 := BitVec.ofNat 32 (i 1).val
  let c2_i32_2096 : BitVec 32 := 2#32
  let v3495 : BitVec 32 := Scalar.muli arg1 c2_i32_2096
  let c0_i32_2097 : BitVec 32 := 0#32
  let v3496 : BitVec 32 := Scalar.addi v3495 c0_i32_2097
  let c256_i32_2098 : BitVec 32 := 256#32
  let v3497 : BitVec 32 := Scalar.muli v3496 c256_i32_2098
  let c229_i32 : BitVec 32 := 229#32
  let v3498 : BitVec 32 := Scalar.addi v3497 c229_i32
  let c8_i32_2102 : BitVec 32 := 8#32
  let v3503 : BitVec 32 := Scalar.muli v3498 c8_i32_2102
  v3503
def k0_off2987 (i : grid0.Coords) : Fin 1 → Nat :=
  let c1_i32_2099 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3499 : BitVec 32 := Scalar.subi c1_i32_2099 v9
  ![v3499.toNat]
def k0_off2988 (i : grid0.Coords) : Fin 3 → Nat :=
  let c1_i32_2099 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3499 : BitVec 32 := Scalar.subi c1_i32_2099 v9
  let arg1 : BitVec 32 := BitVec.ofNat 32 (i 1).val
  let c2_i32_2096 : BitVec 32 := 2#32
  let v3495 : BitVec 32 := Scalar.muli arg1 c2_i32_2096
  let c0_i32_2097 : BitVec 32 := 0#32
  let v3496 : BitVec 32 := Scalar.addi v3495 c0_i32_2097
  let c256_i32_2098 : BitVec 32 := 256#32
  let v3497 : BitVec 32 := Scalar.muli v3496 c256_i32_2098
  let c229_i32 : BitVec 32 := 229#32
  let v3498 : BitVec 32 := Scalar.addi v3497 c229_i32
  let c8_i32_2102 : BitVec 32 := 8#32
  let v3503 : BitVec 32 := Scalar.muli v3498 c8_i32_2102
  let v3504 : BitVec 32 := v3503
  let c0_i32_2103 : BitVec 32 := 0#32
  ![v3499.toNat, v3504.toNat, 0]
def k0_off2989 (v3501 : BitVec 32) : Fin 2 → Nat :=
  let v3502 : BitVec 32 := v3501
  let c0_i32_2104 : BitVec 32 := 0#32
  ![v3502.toNat, 0]

def k0_chk743 (i : grid0.Coords) (v3501 : BitVec 32) : Prop :=
  (∀ (k0_h3 : k0_cond3 i = 1#1), 8 ∣ (k0_mult1485 v3501).toNat) ∧
  (∀ (k0_h3 : k0_cond3 i = 1#1), ∀ a, (k0_off2989 v3501) a + S8x128.size a ≤ S131072x128.size a)
theorem k0_mult1485_dvd : ∀ (i : grid0.Coords) (v3501 : BitVec 32) (k0_hw743 : k0_chk743 i v3501), ∀ (k0_h3 : k0_cond3 i = 1#1), 8 ∣ (k0_mult1485 v3501).toNat := fun i v3501 k0_hw743 k0_h3 => k0_hw743.1 k0_h3
theorem k0_off2989_inb : ∀ (i : grid0.Coords) (v3501 : BitVec 32) (k0_hw743 : k0_chk743 i v3501), ∀ (k0_h3 : k0_cond3 i = 1#1), ∀ a, (k0_off2989 v3501) a + S8x128.size a ≤ S131072x128.size a := fun i v3501 k0_hw743 k0_h3 => k0_hw743.2 k0_h3

def k0_off2990 (i : grid0.Coords) : Fin 3 → Nat :=
  let c0_2109 : Index := 0#32
  let c0_2110 : Index := 0#32
  let arg1 : BitVec 32 := BitVec.ofNat 32 (i 1).val
  let c2_i32_2105 : BitVec 32 := 2#32
  let v3510 : BitVec 32 := Scalar.muli arg1 c2_i32_2105
  let c0_i32_2106 : BitVec 32 := 0#32
  let v3511 : BitVec 32 := Scalar.addi v3510 c0_i32_2106
  let c256_i32_2107 : BitVec 32 := 256#32
  let v3512 : BitVec 32 := Scalar.muli v3511 c256_i32_2107
  let c230_i32 : BitVec 32 := 230#32
  let v3513 : BitVec 32 := Scalar.addi v3512 c230_i32
  let v3515 : Index := Scalar.indexCast v3513
  ![0, 0, v3515.toNat]
def k0_mult1487 (v3516 : BitVec 32) : BitVec 32 :=
  v3516

def k0_mult1488 (i : grid0.Coords) : BitVec 32 :=
  let arg1 : BitVec 32 := BitVec.ofNat 32 (i 1).val
  let c2_i32_2105 : BitVec 32 := 2#32
  let v3510 : BitVec 32 := Scalar.muli arg1 c2_i32_2105
  let c0_i32_2106 : BitVec 32 := 0#32
  let v3511 : BitVec 32 := Scalar.addi v3510 c0_i32_2106
  let c256_i32_2107 : BitVec 32 := 256#32
  let v3512 : BitVec 32 := Scalar.muli v3511 c256_i32_2107
  let c230_i32 : BitVec 32 := 230#32
  let v3513 : BitVec 32 := Scalar.addi v3512 c230_i32
  let c8_i32_2111 : BitVec 32 := 8#32
  let v3518 : BitVec 32 := Scalar.muli v3513 c8_i32_2111
  v3518
def k0_off2991 (i : grid0.Coords) : Fin 1 → Nat :=
  let c1_i32_2108 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3514 : BitVec 32 := Scalar.subi c1_i32_2108 v9
  ![v3514.toNat]
def k0_off2992 (i : grid0.Coords) : Fin 3 → Nat :=
  let c1_i32_2108 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3514 : BitVec 32 := Scalar.subi c1_i32_2108 v9
  let arg1 : BitVec 32 := BitVec.ofNat 32 (i 1).val
  let c2_i32_2105 : BitVec 32 := 2#32
  let v3510 : BitVec 32 := Scalar.muli arg1 c2_i32_2105
  let c0_i32_2106 : BitVec 32 := 0#32
  let v3511 : BitVec 32 := Scalar.addi v3510 c0_i32_2106
  let c256_i32_2107 : BitVec 32 := 256#32
  let v3512 : BitVec 32 := Scalar.muli v3511 c256_i32_2107
  let c230_i32 : BitVec 32 := 230#32
  let v3513 : BitVec 32 := Scalar.addi v3512 c230_i32
  let c8_i32_2111 : BitVec 32 := 8#32
  let v3518 : BitVec 32 := Scalar.muli v3513 c8_i32_2111
  let v3519 : BitVec 32 := v3518
  let c0_i32_2112 : BitVec 32 := 0#32
  ![v3514.toNat, v3519.toNat, 0]
def k0_off2993 (v3516 : BitVec 32) : Fin 2 → Nat :=
  let v3517 : BitVec 32 := v3516
  let c0_i32_2113 : BitVec 32 := 0#32
  ![v3517.toNat, 0]

def k0_chk744 (i : grid0.Coords) (v3516 : BitVec 32) : Prop :=
  (∀ (k0_h3 : k0_cond3 i = 1#1), 8 ∣ (k0_mult1487 v3516).toNat) ∧
  (∀ (k0_h3 : k0_cond3 i = 1#1), ∀ a, (k0_off2993 v3516) a + S8x128.size a ≤ S131072x128.size a)
theorem k0_mult1487_dvd : ∀ (i : grid0.Coords) (v3516 : BitVec 32) (k0_hw744 : k0_chk744 i v3516), ∀ (k0_h3 : k0_cond3 i = 1#1), 8 ∣ (k0_mult1487 v3516).toNat := fun i v3516 k0_hw744 k0_h3 => k0_hw744.1 k0_h3
theorem k0_off2993_inb : ∀ (i : grid0.Coords) (v3516 : BitVec 32) (k0_hw744 : k0_chk744 i v3516), ∀ (k0_h3 : k0_cond3 i = 1#1), ∀ a, (k0_off2993 v3516) a + S8x128.size a ≤ S131072x128.size a := fun i v3516 k0_hw744 k0_h3 => k0_hw744.2 k0_h3

def k0_off2994 (i : grid0.Coords) : Fin 3 → Nat :=
  let c0_2118 : Index := 0#32
  let c0_2119 : Index := 0#32
  let arg1 : BitVec 32 := BitVec.ofNat 32 (i 1).val
  let c2_i32_2114 : BitVec 32 := 2#32
  let v3525 : BitVec 32 := Scalar.muli arg1 c2_i32_2114
  let c0_i32_2115 : BitVec 32 := 0#32
  let v3526 : BitVec 32 := Scalar.addi v3525 c0_i32_2115
  let c256_i32_2116 : BitVec 32 := 256#32
  let v3527 : BitVec 32 := Scalar.muli v3526 c256_i32_2116
  let c231_i32 : BitVec 32 := 231#32
  let v3528 : BitVec 32 := Scalar.addi v3527 c231_i32
  let v3530 : Index := Scalar.indexCast v3528
  ![0, 0, v3530.toNat]
def k0_mult1489 (v3531 : BitVec 32) : BitVec 32 :=
  v3531

def k0_mult1490 (i : grid0.Coords) : BitVec 32 :=
  let arg1 : BitVec 32 := BitVec.ofNat 32 (i 1).val
  let c2_i32_2114 : BitVec 32 := 2#32
  let v3525 : BitVec 32 := Scalar.muli arg1 c2_i32_2114
  let c0_i32_2115 : BitVec 32 := 0#32
  let v3526 : BitVec 32 := Scalar.addi v3525 c0_i32_2115
  let c256_i32_2116 : BitVec 32 := 256#32
  let v3527 : BitVec 32 := Scalar.muli v3526 c256_i32_2116
  let c231_i32 : BitVec 32 := 231#32
  let v3528 : BitVec 32 := Scalar.addi v3527 c231_i32
  let c8_i32_2120 : BitVec 32 := 8#32
  let v3533 : BitVec 32 := Scalar.muli v3528 c8_i32_2120
  v3533
def k0_off2995 (i : grid0.Coords) : Fin 1 → Nat :=
  let c1_i32_2117 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3529 : BitVec 32 := Scalar.subi c1_i32_2117 v9
  ![v3529.toNat]
def k0_off2996 (i : grid0.Coords) : Fin 3 → Nat :=
  let c1_i32_2117 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3529 : BitVec 32 := Scalar.subi c1_i32_2117 v9
  let arg1 : BitVec 32 := BitVec.ofNat 32 (i 1).val
  let c2_i32_2114 : BitVec 32 := 2#32
  let v3525 : BitVec 32 := Scalar.muli arg1 c2_i32_2114
  let c0_i32_2115 : BitVec 32 := 0#32
  let v3526 : BitVec 32 := Scalar.addi v3525 c0_i32_2115
  let c256_i32_2116 : BitVec 32 := 256#32
  let v3527 : BitVec 32 := Scalar.muli v3526 c256_i32_2116
  let c231_i32 : BitVec 32 := 231#32
  let v3528 : BitVec 32 := Scalar.addi v3527 c231_i32
  let c8_i32_2120 : BitVec 32 := 8#32
  let v3533 : BitVec 32 := Scalar.muli v3528 c8_i32_2120
  let v3534 : BitVec 32 := v3533
  let c0_i32_2121 : BitVec 32 := 0#32
  ![v3529.toNat, v3534.toNat, 0]
def k0_off2997 (v3531 : BitVec 32) : Fin 2 → Nat :=
  let v3532 : BitVec 32 := v3531
  let c0_i32_2122 : BitVec 32 := 0#32
  ![v3532.toNat, 0]

def k0_chk745 (i : grid0.Coords) (v3531 : BitVec 32) : Prop :=
  (∀ (k0_h3 : k0_cond3 i = 1#1), 8 ∣ (k0_mult1489 v3531).toNat) ∧
  (∀ (k0_h3 : k0_cond3 i = 1#1), ∀ a, (k0_off2997 v3531) a + S8x128.size a ≤ S131072x128.size a)
theorem k0_mult1489_dvd : ∀ (i : grid0.Coords) (v3531 : BitVec 32) (k0_hw745 : k0_chk745 i v3531), ∀ (k0_h3 : k0_cond3 i = 1#1), 8 ∣ (k0_mult1489 v3531).toNat := fun i v3531 k0_hw745 k0_h3 => k0_hw745.1 k0_h3
theorem k0_off2997_inb : ∀ (i : grid0.Coords) (v3531 : BitVec 32) (k0_hw745 : k0_chk745 i v3531), ∀ (k0_h3 : k0_cond3 i = 1#1), ∀ a, (k0_off2997 v3531) a + S8x128.size a ≤ S131072x128.size a := fun i v3531 k0_hw745 k0_h3 => k0_hw745.2 k0_h3

def k0_off2998 (i : grid0.Coords) : Fin 3 → Nat :=
  let c0_2127 : Index := 0#32
  let c0_2128 : Index := 0#32
  let arg1 : BitVec 32 := BitVec.ofNat 32 (i 1).val
  let c2_i32_2123 : BitVec 32 := 2#32
  let v3540 : BitVec 32 := Scalar.muli arg1 c2_i32_2123
  let c0_i32_2124 : BitVec 32 := 0#32
  let v3541 : BitVec 32 := Scalar.addi v3540 c0_i32_2124
  let c256_i32_2125 : BitVec 32 := 256#32
  let v3542 : BitVec 32 := Scalar.muli v3541 c256_i32_2125
  let c232_i32 : BitVec 32 := 232#32
  let v3543 : BitVec 32 := Scalar.addi v3542 c232_i32
  let v3545 : Index := Scalar.indexCast v3543
  ![0, 0, v3545.toNat]
def k0_mult1491 (v3546 : BitVec 32) : BitVec 32 :=
  v3546

def k0_mult1492 (i : grid0.Coords) : BitVec 32 :=
  let arg1 : BitVec 32 := BitVec.ofNat 32 (i 1).val
  let c2_i32_2123 : BitVec 32 := 2#32
  let v3540 : BitVec 32 := Scalar.muli arg1 c2_i32_2123
  let c0_i32_2124 : BitVec 32 := 0#32
  let v3541 : BitVec 32 := Scalar.addi v3540 c0_i32_2124
  let c256_i32_2125 : BitVec 32 := 256#32
  let v3542 : BitVec 32 := Scalar.muli v3541 c256_i32_2125
  let c232_i32 : BitVec 32 := 232#32
  let v3543 : BitVec 32 := Scalar.addi v3542 c232_i32
  let c8_i32_2129 : BitVec 32 := 8#32
  let v3548 : BitVec 32 := Scalar.muli v3543 c8_i32_2129
  v3548
def k0_off2999 (i : grid0.Coords) : Fin 1 → Nat :=
  let c1_i32_2126 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3544 : BitVec 32 := Scalar.subi c1_i32_2126 v9
  ![v3544.toNat]
def k0_off3000 (i : grid0.Coords) : Fin 3 → Nat :=
  let c1_i32_2126 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3544 : BitVec 32 := Scalar.subi c1_i32_2126 v9
  let arg1 : BitVec 32 := BitVec.ofNat 32 (i 1).val
  let c2_i32_2123 : BitVec 32 := 2#32
  let v3540 : BitVec 32 := Scalar.muli arg1 c2_i32_2123
  let c0_i32_2124 : BitVec 32 := 0#32
  let v3541 : BitVec 32 := Scalar.addi v3540 c0_i32_2124
  let c256_i32_2125 : BitVec 32 := 256#32
  let v3542 : BitVec 32 := Scalar.muli v3541 c256_i32_2125
  let c232_i32 : BitVec 32 := 232#32
  let v3543 : BitVec 32 := Scalar.addi v3542 c232_i32
  let c8_i32_2129 : BitVec 32 := 8#32
  let v3548 : BitVec 32 := Scalar.muli v3543 c8_i32_2129
  let v3549 : BitVec 32 := v3548
  let c0_i32_2130 : BitVec 32 := 0#32
  ![v3544.toNat, v3549.toNat, 0]
def k0_off3001 (v3546 : BitVec 32) : Fin 2 → Nat :=
  let v3547 : BitVec 32 := v3546
  let c0_i32_2131 : BitVec 32 := 0#32
  ![v3547.toNat, 0]

def k0_chk746 (i : grid0.Coords) (v3546 : BitVec 32) : Prop :=
  (∀ (k0_h3 : k0_cond3 i = 1#1), 8 ∣ (k0_mult1491 v3546).toNat) ∧
  (∀ (k0_h3 : k0_cond3 i = 1#1), ∀ a, (k0_off3001 v3546) a + S8x128.size a ≤ S131072x128.size a)
theorem k0_mult1491_dvd : ∀ (i : grid0.Coords) (v3546 : BitVec 32) (k0_hw746 : k0_chk746 i v3546), ∀ (k0_h3 : k0_cond3 i = 1#1), 8 ∣ (k0_mult1491 v3546).toNat := fun i v3546 k0_hw746 k0_h3 => k0_hw746.1 k0_h3
theorem k0_off3001_inb : ∀ (i : grid0.Coords) (v3546 : BitVec 32) (k0_hw746 : k0_chk746 i v3546), ∀ (k0_h3 : k0_cond3 i = 1#1), ∀ a, (k0_off3001 v3546) a + S8x128.size a ≤ S131072x128.size a := fun i v3546 k0_hw746 k0_h3 => k0_hw746.2 k0_h3

def k0_off3002 (i : grid0.Coords) : Fin 3 → Nat :=
  let c0_2136 : Index := 0#32
  let c0_2137 : Index := 0#32
  let arg1 : BitVec 32 := BitVec.ofNat 32 (i 1).val
  let c2_i32_2132 : BitVec 32 := 2#32
  let v3555 : BitVec 32 := Scalar.muli arg1 c2_i32_2132
  let c0_i32_2133 : BitVec 32 := 0#32
  let v3556 : BitVec 32 := Scalar.addi v3555 c0_i32_2133
  let c256_i32_2134 : BitVec 32 := 256#32
  let v3557 : BitVec 32 := Scalar.muli v3556 c256_i32_2134
  let c233_i32 : BitVec 32 := 233#32
  let v3558 : BitVec 32 := Scalar.addi v3557 c233_i32
  let v3560 : Index := Scalar.indexCast v3558
  ![0, 0, v3560.toNat]
def k0_mult1493 (v3561 : BitVec 32) : BitVec 32 :=
  v3561

def k0_mult1494 (i : grid0.Coords) : BitVec 32 :=
  let arg1 : BitVec 32 := BitVec.ofNat 32 (i 1).val
  let c2_i32_2132 : BitVec 32 := 2#32
  let v3555 : BitVec 32 := Scalar.muli arg1 c2_i32_2132
  let c0_i32_2133 : BitVec 32 := 0#32
  let v3556 : BitVec 32 := Scalar.addi v3555 c0_i32_2133
  let c256_i32_2134 : BitVec 32 := 256#32
  let v3557 : BitVec 32 := Scalar.muli v3556 c256_i32_2134
  let c233_i32 : BitVec 32 := 233#32
  let v3558 : BitVec 32 := Scalar.addi v3557 c233_i32
  let c8_i32_2138 : BitVec 32 := 8#32
  let v3563 : BitVec 32 := Scalar.muli v3558 c8_i32_2138
  v3563
def k0_off3003 (i : grid0.Coords) : Fin 1 → Nat :=
  let c1_i32_2135 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3559 : BitVec 32 := Scalar.subi c1_i32_2135 v9
  ![v3559.toNat]
def k0_off3004 (i : grid0.Coords) : Fin 3 → Nat :=
  let c1_i32_2135 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3559 : BitVec 32 := Scalar.subi c1_i32_2135 v9
  let arg1 : BitVec 32 := BitVec.ofNat 32 (i 1).val
  let c2_i32_2132 : BitVec 32 := 2#32
  let v3555 : BitVec 32 := Scalar.muli arg1 c2_i32_2132
  let c0_i32_2133 : BitVec 32 := 0#32
  let v3556 : BitVec 32 := Scalar.addi v3555 c0_i32_2133
  let c256_i32_2134 : BitVec 32 := 256#32
  let v3557 : BitVec 32 := Scalar.muli v3556 c256_i32_2134
  let c233_i32 : BitVec 32 := 233#32
  let v3558 : BitVec 32 := Scalar.addi v3557 c233_i32
  let c8_i32_2138 : BitVec 32 := 8#32
  let v3563 : BitVec 32 := Scalar.muli v3558 c8_i32_2138
  let v3564 : BitVec 32 := v3563
  let c0_i32_2139 : BitVec 32 := 0#32
  ![v3559.toNat, v3564.toNat, 0]
def k0_off3005 (v3561 : BitVec 32) : Fin 2 → Nat :=
  let v3562 : BitVec 32 := v3561
  let c0_i32_2140 : BitVec 32 := 0#32
  ![v3562.toNat, 0]

def k0_chk747 (i : grid0.Coords) (v3561 : BitVec 32) : Prop :=
  (∀ (k0_h3 : k0_cond3 i = 1#1), 8 ∣ (k0_mult1493 v3561).toNat) ∧
  (∀ (k0_h3 : k0_cond3 i = 1#1), ∀ a, (k0_off3005 v3561) a + S8x128.size a ≤ S131072x128.size a)
theorem k0_mult1493_dvd : ∀ (i : grid0.Coords) (v3561 : BitVec 32) (k0_hw747 : k0_chk747 i v3561), ∀ (k0_h3 : k0_cond3 i = 1#1), 8 ∣ (k0_mult1493 v3561).toNat := fun i v3561 k0_hw747 k0_h3 => k0_hw747.1 k0_h3
theorem k0_off3005_inb : ∀ (i : grid0.Coords) (v3561 : BitVec 32) (k0_hw747 : k0_chk747 i v3561), ∀ (k0_h3 : k0_cond3 i = 1#1), ∀ a, (k0_off3005 v3561) a + S8x128.size a ≤ S131072x128.size a := fun i v3561 k0_hw747 k0_h3 => k0_hw747.2 k0_h3

def k0_off3006 (i : grid0.Coords) : Fin 3 → Nat :=
  let c0_2145 : Index := 0#32
  let c0_2146 : Index := 0#32
  let arg1 : BitVec 32 := BitVec.ofNat 32 (i 1).val
  let c2_i32_2141 : BitVec 32 := 2#32
  let v3570 : BitVec 32 := Scalar.muli arg1 c2_i32_2141
  let c0_i32_2142 : BitVec 32 := 0#32
  let v3571 : BitVec 32 := Scalar.addi v3570 c0_i32_2142
  let c256_i32_2143 : BitVec 32 := 256#32
  let v3572 : BitVec 32 := Scalar.muli v3571 c256_i32_2143
  let c234_i32 : BitVec 32 := 234#32
  let v3573 : BitVec 32 := Scalar.addi v3572 c234_i32
  let v3575 : Index := Scalar.indexCast v3573
  ![0, 0, v3575.toNat]
def k0_mult1495 (v3576 : BitVec 32) : BitVec 32 :=
  v3576

def k0_mult1496 (i : grid0.Coords) : BitVec 32 :=
  let arg1 : BitVec 32 := BitVec.ofNat 32 (i 1).val
  let c2_i32_2141 : BitVec 32 := 2#32
  let v3570 : BitVec 32 := Scalar.muli arg1 c2_i32_2141
  let c0_i32_2142 : BitVec 32 := 0#32
  let v3571 : BitVec 32 := Scalar.addi v3570 c0_i32_2142
  let c256_i32_2143 : BitVec 32 := 256#32
  let v3572 : BitVec 32 := Scalar.muli v3571 c256_i32_2143
  let c234_i32 : BitVec 32 := 234#32
  let v3573 : BitVec 32 := Scalar.addi v3572 c234_i32
  let c8_i32_2147 : BitVec 32 := 8#32
  let v3578 : BitVec 32 := Scalar.muli v3573 c8_i32_2147
  v3578
def k0_off3007 (i : grid0.Coords) : Fin 1 → Nat :=
  let c1_i32_2144 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3574 : BitVec 32 := Scalar.subi c1_i32_2144 v9
  ![v3574.toNat]
def k0_off3008 (i : grid0.Coords) : Fin 3 → Nat :=
  let c1_i32_2144 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3574 : BitVec 32 := Scalar.subi c1_i32_2144 v9
  let arg1 : BitVec 32 := BitVec.ofNat 32 (i 1).val
  let c2_i32_2141 : BitVec 32 := 2#32
  let v3570 : BitVec 32 := Scalar.muli arg1 c2_i32_2141
  let c0_i32_2142 : BitVec 32 := 0#32
  let v3571 : BitVec 32 := Scalar.addi v3570 c0_i32_2142
  let c256_i32_2143 : BitVec 32 := 256#32
  let v3572 : BitVec 32 := Scalar.muli v3571 c256_i32_2143
  let c234_i32 : BitVec 32 := 234#32
  let v3573 : BitVec 32 := Scalar.addi v3572 c234_i32
  let c8_i32_2147 : BitVec 32 := 8#32
  let v3578 : BitVec 32 := Scalar.muli v3573 c8_i32_2147
  let v3579 : BitVec 32 := v3578
  let c0_i32_2148 : BitVec 32 := 0#32
  ![v3574.toNat, v3579.toNat, 0]
def k0_off3009 (v3576 : BitVec 32) : Fin 2 → Nat :=
  let v3577 : BitVec 32 := v3576
  let c0_i32_2149 : BitVec 32 := 0#32
  ![v3577.toNat, 0]

def k0_chk748 (i : grid0.Coords) (v3576 : BitVec 32) : Prop :=
  (∀ (k0_h3 : k0_cond3 i = 1#1), 8 ∣ (k0_mult1495 v3576).toNat) ∧
  (∀ (k0_h3 : k0_cond3 i = 1#1), ∀ a, (k0_off3009 v3576) a + S8x128.size a ≤ S131072x128.size a)
theorem k0_mult1495_dvd : ∀ (i : grid0.Coords) (v3576 : BitVec 32) (k0_hw748 : k0_chk748 i v3576), ∀ (k0_h3 : k0_cond3 i = 1#1), 8 ∣ (k0_mult1495 v3576).toNat := fun i v3576 k0_hw748 k0_h3 => k0_hw748.1 k0_h3
theorem k0_off3009_inb : ∀ (i : grid0.Coords) (v3576 : BitVec 32) (k0_hw748 : k0_chk748 i v3576), ∀ (k0_h3 : k0_cond3 i = 1#1), ∀ a, (k0_off3009 v3576) a + S8x128.size a ≤ S131072x128.size a := fun i v3576 k0_hw748 k0_h3 => k0_hw748.2 k0_h3

def k0_off3010 (i : grid0.Coords) : Fin 3 → Nat :=
  let c0_2154 : Index := 0#32
  let c0_2155 : Index := 0#32
  let arg1 : BitVec 32 := BitVec.ofNat 32 (i 1).val
  let c2_i32_2150 : BitVec 32 := 2#32
  let v3585 : BitVec 32 := Scalar.muli arg1 c2_i32_2150
  let c0_i32_2151 : BitVec 32 := 0#32
  let v3586 : BitVec 32 := Scalar.addi v3585 c0_i32_2151
  let c256_i32_2152 : BitVec 32 := 256#32
  let v3587 : BitVec 32 := Scalar.muli v3586 c256_i32_2152
  let c235_i32 : BitVec 32 := 235#32
  let v3588 : BitVec 32 := Scalar.addi v3587 c235_i32
  let v3590 : Index := Scalar.indexCast v3588
  ![0, 0, v3590.toNat]
def k0_mult1497 (v3591 : BitVec 32) : BitVec 32 :=
  v3591

def k0_mult1498 (i : grid0.Coords) : BitVec 32 :=
  let arg1 : BitVec 32 := BitVec.ofNat 32 (i 1).val
  let c2_i32_2150 : BitVec 32 := 2#32
  let v3585 : BitVec 32 := Scalar.muli arg1 c2_i32_2150
  let c0_i32_2151 : BitVec 32 := 0#32
  let v3586 : BitVec 32 := Scalar.addi v3585 c0_i32_2151
  let c256_i32_2152 : BitVec 32 := 256#32
  let v3587 : BitVec 32 := Scalar.muli v3586 c256_i32_2152
  let c235_i32 : BitVec 32 := 235#32
  let v3588 : BitVec 32 := Scalar.addi v3587 c235_i32
  let c8_i32_2156 : BitVec 32 := 8#32
  let v3593 : BitVec 32 := Scalar.muli v3588 c8_i32_2156
  v3593
def k0_off3011 (i : grid0.Coords) : Fin 1 → Nat :=
  let c1_i32_2153 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3589 : BitVec 32 := Scalar.subi c1_i32_2153 v9
  ![v3589.toNat]
def k0_off3012 (i : grid0.Coords) : Fin 3 → Nat :=
  let c1_i32_2153 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3589 : BitVec 32 := Scalar.subi c1_i32_2153 v9
  let arg1 : BitVec 32 := BitVec.ofNat 32 (i 1).val
  let c2_i32_2150 : BitVec 32 := 2#32
  let v3585 : BitVec 32 := Scalar.muli arg1 c2_i32_2150
  let c0_i32_2151 : BitVec 32 := 0#32
  let v3586 : BitVec 32 := Scalar.addi v3585 c0_i32_2151
  let c256_i32_2152 : BitVec 32 := 256#32
  let v3587 : BitVec 32 := Scalar.muli v3586 c256_i32_2152
  let c235_i32 : BitVec 32 := 235#32
  let v3588 : BitVec 32 := Scalar.addi v3587 c235_i32
  let c8_i32_2156 : BitVec 32 := 8#32
  let v3593 : BitVec 32 := Scalar.muli v3588 c8_i32_2156
  let v3594 : BitVec 32 := v3593
  let c0_i32_2157 : BitVec 32 := 0#32
  ![v3589.toNat, v3594.toNat, 0]
def k0_off3013 (v3591 : BitVec 32) : Fin 2 → Nat :=
  let v3592 : BitVec 32 := v3591
  let c0_i32_2158 : BitVec 32 := 0#32
  ![v3592.toNat, 0]

def k0_chk749 (i : grid0.Coords) (v3591 : BitVec 32) : Prop :=
  (∀ (k0_h3 : k0_cond3 i = 1#1), 8 ∣ (k0_mult1497 v3591).toNat) ∧
  (∀ (k0_h3 : k0_cond3 i = 1#1), ∀ a, (k0_off3013 v3591) a + S8x128.size a ≤ S131072x128.size a)
theorem k0_mult1497_dvd : ∀ (i : grid0.Coords) (v3591 : BitVec 32) (k0_hw749 : k0_chk749 i v3591), ∀ (k0_h3 : k0_cond3 i = 1#1), 8 ∣ (k0_mult1497 v3591).toNat := fun i v3591 k0_hw749 k0_h3 => k0_hw749.1 k0_h3
theorem k0_off3013_inb : ∀ (i : grid0.Coords) (v3591 : BitVec 32) (k0_hw749 : k0_chk749 i v3591), ∀ (k0_h3 : k0_cond3 i = 1#1), ∀ a, (k0_off3013 v3591) a + S8x128.size a ≤ S131072x128.size a := fun i v3591 k0_hw749 k0_h3 => k0_hw749.2 k0_h3

def k0_off3014 (i : grid0.Coords) : Fin 3 → Nat :=
  let c0_2163 : Index := 0#32
  let c0_2164 : Index := 0#32
  let arg1 : BitVec 32 := BitVec.ofNat 32 (i 1).val
  let c2_i32_2159 : BitVec 32 := 2#32
  let v3600 : BitVec 32 := Scalar.muli arg1 c2_i32_2159
  let c0_i32_2160 : BitVec 32 := 0#32
  let v3601 : BitVec 32 := Scalar.addi v3600 c0_i32_2160
  let c256_i32_2161 : BitVec 32 := 256#32
  let v3602 : BitVec 32 := Scalar.muli v3601 c256_i32_2161
  let c236_i32 : BitVec 32 := 236#32
  let v3603 : BitVec 32 := Scalar.addi v3602 c236_i32
  let v3605 : Index := Scalar.indexCast v3603
  ![0, 0, v3605.toNat]
def k0_mult1499 (v3606 : BitVec 32) : BitVec 32 :=
  v3606

def k0_mult1500 (i : grid0.Coords) : BitVec 32 :=
  let arg1 : BitVec 32 := BitVec.ofNat 32 (i 1).val
  let c2_i32_2159 : BitVec 32 := 2#32
  let v3600 : BitVec 32 := Scalar.muli arg1 c2_i32_2159
  let c0_i32_2160 : BitVec 32 := 0#32
  let v3601 : BitVec 32 := Scalar.addi v3600 c0_i32_2160
  let c256_i32_2161 : BitVec 32 := 256#32
  let v3602 : BitVec 32 := Scalar.muli v3601 c256_i32_2161
  let c236_i32 : BitVec 32 := 236#32
  let v3603 : BitVec 32 := Scalar.addi v3602 c236_i32
  let c8_i32_2165 : BitVec 32 := 8#32
  let v3608 : BitVec 32 := Scalar.muli v3603 c8_i32_2165
  v3608
def k0_off3015 (i : grid0.Coords) : Fin 1 → Nat :=
  let c1_i32_2162 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3604 : BitVec 32 := Scalar.subi c1_i32_2162 v9
  ![v3604.toNat]
def k0_off3016 (i : grid0.Coords) : Fin 3 → Nat :=
  let c1_i32_2162 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3604 : BitVec 32 := Scalar.subi c1_i32_2162 v9
  let arg1 : BitVec 32 := BitVec.ofNat 32 (i 1).val
  let c2_i32_2159 : BitVec 32 := 2#32
  let v3600 : BitVec 32 := Scalar.muli arg1 c2_i32_2159
  let c0_i32_2160 : BitVec 32 := 0#32
  let v3601 : BitVec 32 := Scalar.addi v3600 c0_i32_2160
  let c256_i32_2161 : BitVec 32 := 256#32
  let v3602 : BitVec 32 := Scalar.muli v3601 c256_i32_2161
  let c236_i32 : BitVec 32 := 236#32
  let v3603 : BitVec 32 := Scalar.addi v3602 c236_i32
  let c8_i32_2165 : BitVec 32 := 8#32
  let v3608 : BitVec 32 := Scalar.muli v3603 c8_i32_2165
  let v3609 : BitVec 32 := v3608
  let c0_i32_2166 : BitVec 32 := 0#32
  ![v3604.toNat, v3609.toNat, 0]
def k0_off3017 (v3606 : BitVec 32) : Fin 2 → Nat :=
  let v3607 : BitVec 32 := v3606
  let c0_i32_2167 : BitVec 32 := 0#32
  ![v3607.toNat, 0]

def k0_chk750 (i : grid0.Coords) (v3606 : BitVec 32) : Prop :=
  (∀ (k0_h3 : k0_cond3 i = 1#1), 8 ∣ (k0_mult1499 v3606).toNat) ∧
  (∀ (k0_h3 : k0_cond3 i = 1#1), ∀ a, (k0_off3017 v3606) a + S8x128.size a ≤ S131072x128.size a)
theorem k0_mult1499_dvd : ∀ (i : grid0.Coords) (v3606 : BitVec 32) (k0_hw750 : k0_chk750 i v3606), ∀ (k0_h3 : k0_cond3 i = 1#1), 8 ∣ (k0_mult1499 v3606).toNat := fun i v3606 k0_hw750 k0_h3 => k0_hw750.1 k0_h3
theorem k0_off3017_inb : ∀ (i : grid0.Coords) (v3606 : BitVec 32) (k0_hw750 : k0_chk750 i v3606), ∀ (k0_h3 : k0_cond3 i = 1#1), ∀ a, (k0_off3017 v3606) a + S8x128.size a ≤ S131072x128.size a := fun i v3606 k0_hw750 k0_h3 => k0_hw750.2 k0_h3

def k0_off3018 (i : grid0.Coords) : Fin 3 → Nat :=
  let c0_2172 : Index := 0#32
  let c0_2173 : Index := 0#32
  let arg1 : BitVec 32 := BitVec.ofNat 32 (i 1).val
  let c2_i32_2168 : BitVec 32 := 2#32
  let v3615 : BitVec 32 := Scalar.muli arg1 c2_i32_2168
  let c0_i32_2169 : BitVec 32 := 0#32
  let v3616 : BitVec 32 := Scalar.addi v3615 c0_i32_2169
  let c256_i32_2170 : BitVec 32 := 256#32
  let v3617 : BitVec 32 := Scalar.muli v3616 c256_i32_2170
  let c237_i32 : BitVec 32 := 237#32
  let v3618 : BitVec 32 := Scalar.addi v3617 c237_i32
  let v3620 : Index := Scalar.indexCast v3618
  ![0, 0, v3620.toNat]
def k0_mult1501 (v3621 : BitVec 32) : BitVec 32 :=
  v3621

def k0_mult1502 (i : grid0.Coords) : BitVec 32 :=
  let arg1 : BitVec 32 := BitVec.ofNat 32 (i 1).val
  let c2_i32_2168 : BitVec 32 := 2#32
  let v3615 : BitVec 32 := Scalar.muli arg1 c2_i32_2168
  let c0_i32_2169 : BitVec 32 := 0#32
  let v3616 : BitVec 32 := Scalar.addi v3615 c0_i32_2169
  let c256_i32_2170 : BitVec 32 := 256#32
  let v3617 : BitVec 32 := Scalar.muli v3616 c256_i32_2170
  let c237_i32 : BitVec 32 := 237#32
  let v3618 : BitVec 32 := Scalar.addi v3617 c237_i32
  let c8_i32_2174 : BitVec 32 := 8#32
  let v3623 : BitVec 32 := Scalar.muli v3618 c8_i32_2174
  v3623
def k0_off3019 (i : grid0.Coords) : Fin 1 → Nat :=
  let c1_i32_2171 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3619 : BitVec 32 := Scalar.subi c1_i32_2171 v9
  ![v3619.toNat]
def k0_off3020 (i : grid0.Coords) : Fin 3 → Nat :=
  let c1_i32_2171 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3619 : BitVec 32 := Scalar.subi c1_i32_2171 v9
  let arg1 : BitVec 32 := BitVec.ofNat 32 (i 1).val
  let c2_i32_2168 : BitVec 32 := 2#32
  let v3615 : BitVec 32 := Scalar.muli arg1 c2_i32_2168
  let c0_i32_2169 : BitVec 32 := 0#32
  let v3616 : BitVec 32 := Scalar.addi v3615 c0_i32_2169
  let c256_i32_2170 : BitVec 32 := 256#32
  let v3617 : BitVec 32 := Scalar.muli v3616 c256_i32_2170
  let c237_i32 : BitVec 32 := 237#32
  let v3618 : BitVec 32 := Scalar.addi v3617 c237_i32
  let c8_i32_2174 : BitVec 32 := 8#32
  let v3623 : BitVec 32 := Scalar.muli v3618 c8_i32_2174
  let v3624 : BitVec 32 := v3623
  let c0_i32_2175 : BitVec 32 := 0#32
  ![v3619.toNat, v3624.toNat, 0]
def k0_off3021 (v3621 : BitVec 32) : Fin 2 → Nat :=
  let v3622 : BitVec 32 := v3621
  let c0_i32_2176 : BitVec 32 := 0#32
  ![v3622.toNat, 0]

def k0_chk751 (i : grid0.Coords) (v3621 : BitVec 32) : Prop :=
  (∀ (k0_h3 : k0_cond3 i = 1#1), 8 ∣ (k0_mult1501 v3621).toNat) ∧
  (∀ (k0_h3 : k0_cond3 i = 1#1), ∀ a, (k0_off3021 v3621) a + S8x128.size a ≤ S131072x128.size a)
theorem k0_mult1501_dvd : ∀ (i : grid0.Coords) (v3621 : BitVec 32) (k0_hw751 : k0_chk751 i v3621), ∀ (k0_h3 : k0_cond3 i = 1#1), 8 ∣ (k0_mult1501 v3621).toNat := fun i v3621 k0_hw751 k0_h3 => k0_hw751.1 k0_h3
theorem k0_off3021_inb : ∀ (i : grid0.Coords) (v3621 : BitVec 32) (k0_hw751 : k0_chk751 i v3621), ∀ (k0_h3 : k0_cond3 i = 1#1), ∀ a, (k0_off3021 v3621) a + S8x128.size a ≤ S131072x128.size a := fun i v3621 k0_hw751 k0_h3 => k0_hw751.2 k0_h3

def k0_off3022 (i : grid0.Coords) : Fin 3 → Nat :=
  let c0_2181 : Index := 0#32
  let c0_2182 : Index := 0#32
  let arg1 : BitVec 32 := BitVec.ofNat 32 (i 1).val
  let c2_i32_2177 : BitVec 32 := 2#32
  let v3630 : BitVec 32 := Scalar.muli arg1 c2_i32_2177
  let c0_i32_2178 : BitVec 32 := 0#32
  let v3631 : BitVec 32 := Scalar.addi v3630 c0_i32_2178
  let c256_i32_2179 : BitVec 32 := 256#32
  let v3632 : BitVec 32 := Scalar.muli v3631 c256_i32_2179
  let c238_i32 : BitVec 32 := 238#32
  let v3633 : BitVec 32 := Scalar.addi v3632 c238_i32
  let v3635 : Index := Scalar.indexCast v3633
  ![0, 0, v3635.toNat]
def k0_mult1503 (v3636 : BitVec 32) : BitVec 32 :=
  v3636

def k0_mult1504 (i : grid0.Coords) : BitVec 32 :=
  let arg1 : BitVec 32 := BitVec.ofNat 32 (i 1).val
  let c2_i32_2177 : BitVec 32 := 2#32
  let v3630 : BitVec 32 := Scalar.muli arg1 c2_i32_2177
  let c0_i32_2178 : BitVec 32 := 0#32
  let v3631 : BitVec 32 := Scalar.addi v3630 c0_i32_2178
  let c256_i32_2179 : BitVec 32 := 256#32
  let v3632 : BitVec 32 := Scalar.muli v3631 c256_i32_2179
  let c238_i32 : BitVec 32 := 238#32
  let v3633 : BitVec 32 := Scalar.addi v3632 c238_i32
  let c8_i32_2183 : BitVec 32 := 8#32
  let v3638 : BitVec 32 := Scalar.muli v3633 c8_i32_2183
  v3638
def k0_off3023 (i : grid0.Coords) : Fin 1 → Nat :=
  let c1_i32_2180 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3634 : BitVec 32 := Scalar.subi c1_i32_2180 v9
  ![v3634.toNat]
def k0_off3024 (i : grid0.Coords) : Fin 3 → Nat :=
  let c1_i32_2180 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3634 : BitVec 32 := Scalar.subi c1_i32_2180 v9
  let arg1 : BitVec 32 := BitVec.ofNat 32 (i 1).val
  let c2_i32_2177 : BitVec 32 := 2#32
  let v3630 : BitVec 32 := Scalar.muli arg1 c2_i32_2177
  let c0_i32_2178 : BitVec 32 := 0#32
  let v3631 : BitVec 32 := Scalar.addi v3630 c0_i32_2178
  let c256_i32_2179 : BitVec 32 := 256#32
  let v3632 : BitVec 32 := Scalar.muli v3631 c256_i32_2179
  let c238_i32 : BitVec 32 := 238#32
  let v3633 : BitVec 32 := Scalar.addi v3632 c238_i32
  let c8_i32_2183 : BitVec 32 := 8#32
  let v3638 : BitVec 32 := Scalar.muli v3633 c8_i32_2183
  let v3639 : BitVec 32 := v3638
  let c0_i32_2184 : BitVec 32 := 0#32
  ![v3634.toNat, v3639.toNat, 0]
def k0_off3025 (v3636 : BitVec 32) : Fin 2 → Nat :=
  let v3637 : BitVec 32 := v3636
  let c0_i32_2185 : BitVec 32 := 0#32
  ![v3637.toNat, 0]

def k0_chk752 (i : grid0.Coords) (v3636 : BitVec 32) : Prop :=
  (∀ (k0_h3 : k0_cond3 i = 1#1), 8 ∣ (k0_mult1503 v3636).toNat) ∧
  (∀ (k0_h3 : k0_cond3 i = 1#1), ∀ a, (k0_off3025 v3636) a + S8x128.size a ≤ S131072x128.size a)
theorem k0_mult1503_dvd : ∀ (i : grid0.Coords) (v3636 : BitVec 32) (k0_hw752 : k0_chk752 i v3636), ∀ (k0_h3 : k0_cond3 i = 1#1), 8 ∣ (k0_mult1503 v3636).toNat := fun i v3636 k0_hw752 k0_h3 => k0_hw752.1 k0_h3
theorem k0_off3025_inb : ∀ (i : grid0.Coords) (v3636 : BitVec 32) (k0_hw752 : k0_chk752 i v3636), ∀ (k0_h3 : k0_cond3 i = 1#1), ∀ a, (k0_off3025 v3636) a + S8x128.size a ≤ S131072x128.size a := fun i v3636 k0_hw752 k0_h3 => k0_hw752.2 k0_h3

def k0_off3026 (i : grid0.Coords) : Fin 3 → Nat :=
  let c0_2190 : Index := 0#32
  let c0_2191 : Index := 0#32
  let arg1 : BitVec 32 := BitVec.ofNat 32 (i 1).val
  let c2_i32_2186 : BitVec 32 := 2#32
  let v3645 : BitVec 32 := Scalar.muli arg1 c2_i32_2186
  let c0_i32_2187 : BitVec 32 := 0#32
  let v3646 : BitVec 32 := Scalar.addi v3645 c0_i32_2187
  let c256_i32_2188 : BitVec 32 := 256#32
  let v3647 : BitVec 32 := Scalar.muli v3646 c256_i32_2188
  let c239_i32 : BitVec 32 := 239#32
  let v3648 : BitVec 32 := Scalar.addi v3647 c239_i32
  let v3650 : Index := Scalar.indexCast v3648
  ![0, 0, v3650.toNat]
def k0_mult1505 (v3651 : BitVec 32) : BitVec 32 :=
  v3651

def k0_mult1506 (i : grid0.Coords) : BitVec 32 :=
  let arg1 : BitVec 32 := BitVec.ofNat 32 (i 1).val
  let c2_i32_2186 : BitVec 32 := 2#32
  let v3645 : BitVec 32 := Scalar.muli arg1 c2_i32_2186
  let c0_i32_2187 : BitVec 32 := 0#32
  let v3646 : BitVec 32 := Scalar.addi v3645 c0_i32_2187
  let c256_i32_2188 : BitVec 32 := 256#32
  let v3647 : BitVec 32 := Scalar.muli v3646 c256_i32_2188
  let c239_i32 : BitVec 32 := 239#32
  let v3648 : BitVec 32 := Scalar.addi v3647 c239_i32
  let c8_i32_2192 : BitVec 32 := 8#32
  let v3653 : BitVec 32 := Scalar.muli v3648 c8_i32_2192
  v3653
def k0_off3027 (i : grid0.Coords) : Fin 1 → Nat :=
  let c1_i32_2189 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3649 : BitVec 32 := Scalar.subi c1_i32_2189 v9
  ![v3649.toNat]
def k0_off3028 (i : grid0.Coords) : Fin 3 → Nat :=
  let c1_i32_2189 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3649 : BitVec 32 := Scalar.subi c1_i32_2189 v9
  let arg1 : BitVec 32 := BitVec.ofNat 32 (i 1).val
  let c2_i32_2186 : BitVec 32 := 2#32
  let v3645 : BitVec 32 := Scalar.muli arg1 c2_i32_2186
  let c0_i32_2187 : BitVec 32 := 0#32
  let v3646 : BitVec 32 := Scalar.addi v3645 c0_i32_2187
  let c256_i32_2188 : BitVec 32 := 256#32
  let v3647 : BitVec 32 := Scalar.muli v3646 c256_i32_2188
  let c239_i32 : BitVec 32 := 239#32
  let v3648 : BitVec 32 := Scalar.addi v3647 c239_i32
  let c8_i32_2192 : BitVec 32 := 8#32
  let v3653 : BitVec 32 := Scalar.muli v3648 c8_i32_2192
  let v3654 : BitVec 32 := v3653
  let c0_i32_2193 : BitVec 32 := 0#32
  ![v3649.toNat, v3654.toNat, 0]
def k0_off3029 (v3651 : BitVec 32) : Fin 2 → Nat :=
  let v3652 : BitVec 32 := v3651
  let c0_i32_2194 : BitVec 32 := 0#32
  ![v3652.toNat, 0]

def k0_chk753 (i : grid0.Coords) (v3651 : BitVec 32) : Prop :=
  (∀ (k0_h3 : k0_cond3 i = 1#1), 8 ∣ (k0_mult1505 v3651).toNat) ∧
  (∀ (k0_h3 : k0_cond3 i = 1#1), ∀ a, (k0_off3029 v3651) a + S8x128.size a ≤ S131072x128.size a)
theorem k0_mult1505_dvd : ∀ (i : grid0.Coords) (v3651 : BitVec 32) (k0_hw753 : k0_chk753 i v3651), ∀ (k0_h3 : k0_cond3 i = 1#1), 8 ∣ (k0_mult1505 v3651).toNat := fun i v3651 k0_hw753 k0_h3 => k0_hw753.1 k0_h3
theorem k0_off3029_inb : ∀ (i : grid0.Coords) (v3651 : BitVec 32) (k0_hw753 : k0_chk753 i v3651), ∀ (k0_h3 : k0_cond3 i = 1#1), ∀ a, (k0_off3029 v3651) a + S8x128.size a ≤ S131072x128.size a := fun i v3651 k0_hw753 k0_h3 => k0_hw753.2 k0_h3

def k0_off3030 (i : grid0.Coords) : Fin 3 → Nat :=
  let c0_2199 : Index := 0#32
  let c0_2200 : Index := 0#32
  let arg1 : BitVec 32 := BitVec.ofNat 32 (i 1).val
  let c2_i32_2195 : BitVec 32 := 2#32
  let v3660 : BitVec 32 := Scalar.muli arg1 c2_i32_2195
  let c0_i32_2196 : BitVec 32 := 0#32
  let v3661 : BitVec 32 := Scalar.addi v3660 c0_i32_2196
  let c256_i32_2197 : BitVec 32 := 256#32
  let v3662 : BitVec 32 := Scalar.muli v3661 c256_i32_2197
  let c240_i32 : BitVec 32 := 240#32
  let v3663 : BitVec 32 := Scalar.addi v3662 c240_i32
  let v3665 : Index := Scalar.indexCast v3663
  ![0, 0, v3665.toNat]
def k0_mult1507 (v3666 : BitVec 32) : BitVec 32 :=
  v3666

def k0_mult1508 (i : grid0.Coords) : BitVec 32 :=
  let arg1 : BitVec 32 := BitVec.ofNat 32 (i 1).val
  let c2_i32_2195 : BitVec 32 := 2#32
  let v3660 : BitVec 32 := Scalar.muli arg1 c2_i32_2195
  let c0_i32_2196 : BitVec 32 := 0#32
  let v3661 : BitVec 32 := Scalar.addi v3660 c0_i32_2196
  let c256_i32_2197 : BitVec 32 := 256#32
  let v3662 : BitVec 32 := Scalar.muli v3661 c256_i32_2197
  let c240_i32 : BitVec 32 := 240#32
  let v3663 : BitVec 32 := Scalar.addi v3662 c240_i32
  let c8_i32_2201 : BitVec 32 := 8#32
  let v3668 : BitVec 32 := Scalar.muli v3663 c8_i32_2201
  v3668
def k0_off3031 (i : grid0.Coords) : Fin 1 → Nat :=
  let c1_i32_2198 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3664 : BitVec 32 := Scalar.subi c1_i32_2198 v9
  ![v3664.toNat]
def k0_off3032 (i : grid0.Coords) : Fin 3 → Nat :=
  let c1_i32_2198 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3664 : BitVec 32 := Scalar.subi c1_i32_2198 v9
  let arg1 : BitVec 32 := BitVec.ofNat 32 (i 1).val
  let c2_i32_2195 : BitVec 32 := 2#32
  let v3660 : BitVec 32 := Scalar.muli arg1 c2_i32_2195
  let c0_i32_2196 : BitVec 32 := 0#32
  let v3661 : BitVec 32 := Scalar.addi v3660 c0_i32_2196
  let c256_i32_2197 : BitVec 32 := 256#32
  let v3662 : BitVec 32 := Scalar.muli v3661 c256_i32_2197
  let c240_i32 : BitVec 32 := 240#32
  let v3663 : BitVec 32 := Scalar.addi v3662 c240_i32
  let c8_i32_2201 : BitVec 32 := 8#32
  let v3668 : BitVec 32 := Scalar.muli v3663 c8_i32_2201
  let v3669 : BitVec 32 := v3668
  let c0_i32_2202 : BitVec 32 := 0#32
  ![v3664.toNat, v3669.toNat, 0]
def k0_off3033 (v3666 : BitVec 32) : Fin 2 → Nat :=
  let v3667 : BitVec 32 := v3666
  let c0_i32_2203 : BitVec 32 := 0#32
  ![v3667.toNat, 0]

def k0_chk754 (i : grid0.Coords) (v3666 : BitVec 32) : Prop :=
  (∀ (k0_h3 : k0_cond3 i = 1#1), 8 ∣ (k0_mult1507 v3666).toNat) ∧
  (∀ (k0_h3 : k0_cond3 i = 1#1), ∀ a, (k0_off3033 v3666) a + S8x128.size a ≤ S131072x128.size a)
theorem k0_mult1507_dvd : ∀ (i : grid0.Coords) (v3666 : BitVec 32) (k0_hw754 : k0_chk754 i v3666), ∀ (k0_h3 : k0_cond3 i = 1#1), 8 ∣ (k0_mult1507 v3666).toNat := fun i v3666 k0_hw754 k0_h3 => k0_hw754.1 k0_h3
theorem k0_off3033_inb : ∀ (i : grid0.Coords) (v3666 : BitVec 32) (k0_hw754 : k0_chk754 i v3666), ∀ (k0_h3 : k0_cond3 i = 1#1), ∀ a, (k0_off3033 v3666) a + S8x128.size a ≤ S131072x128.size a := fun i v3666 k0_hw754 k0_h3 => k0_hw754.2 k0_h3

def k0_off3034 (i : grid0.Coords) : Fin 3 → Nat :=
  let c0_2208 : Index := 0#32
  let c0_2209 : Index := 0#32
  let arg1 : BitVec 32 := BitVec.ofNat 32 (i 1).val
  let c2_i32_2204 : BitVec 32 := 2#32
  let v3675 : BitVec 32 := Scalar.muli arg1 c2_i32_2204
  let c0_i32_2205 : BitVec 32 := 0#32
  let v3676 : BitVec 32 := Scalar.addi v3675 c0_i32_2205
  let c256_i32_2206 : BitVec 32 := 256#32
  let v3677 : BitVec 32 := Scalar.muli v3676 c256_i32_2206
  let c241_i32 : BitVec 32 := 241#32
  let v3678 : BitVec 32 := Scalar.addi v3677 c241_i32
  let v3680 : Index := Scalar.indexCast v3678
  ![0, 0, v3680.toNat]
def k0_mult1509 (v3681 : BitVec 32) : BitVec 32 :=
  v3681

def k0_mult1510 (i : grid0.Coords) : BitVec 32 :=
  let arg1 : BitVec 32 := BitVec.ofNat 32 (i 1).val
  let c2_i32_2204 : BitVec 32 := 2#32
  let v3675 : BitVec 32 := Scalar.muli arg1 c2_i32_2204
  let c0_i32_2205 : BitVec 32 := 0#32
  let v3676 : BitVec 32 := Scalar.addi v3675 c0_i32_2205
  let c256_i32_2206 : BitVec 32 := 256#32
  let v3677 : BitVec 32 := Scalar.muli v3676 c256_i32_2206
  let c241_i32 : BitVec 32 := 241#32
  let v3678 : BitVec 32 := Scalar.addi v3677 c241_i32
  let c8_i32_2210 : BitVec 32 := 8#32
  let v3683 : BitVec 32 := Scalar.muli v3678 c8_i32_2210
  v3683
def k0_off3035 (i : grid0.Coords) : Fin 1 → Nat :=
  let c1_i32_2207 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3679 : BitVec 32 := Scalar.subi c1_i32_2207 v9
  ![v3679.toNat]
def k0_off3036 (i : grid0.Coords) : Fin 3 → Nat :=
  let c1_i32_2207 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3679 : BitVec 32 := Scalar.subi c1_i32_2207 v9
  let arg1 : BitVec 32 := BitVec.ofNat 32 (i 1).val
  let c2_i32_2204 : BitVec 32 := 2#32
  let v3675 : BitVec 32 := Scalar.muli arg1 c2_i32_2204
  let c0_i32_2205 : BitVec 32 := 0#32
  let v3676 : BitVec 32 := Scalar.addi v3675 c0_i32_2205
  let c256_i32_2206 : BitVec 32 := 256#32
  let v3677 : BitVec 32 := Scalar.muli v3676 c256_i32_2206
  let c241_i32 : BitVec 32 := 241#32
  let v3678 : BitVec 32 := Scalar.addi v3677 c241_i32
  let c8_i32_2210 : BitVec 32 := 8#32
  let v3683 : BitVec 32 := Scalar.muli v3678 c8_i32_2210
  let v3684 : BitVec 32 := v3683
  let c0_i32_2211 : BitVec 32 := 0#32
  ![v3679.toNat, v3684.toNat, 0]
def k0_off3037 (v3681 : BitVec 32) : Fin 2 → Nat :=
  let v3682 : BitVec 32 := v3681
  let c0_i32_2212 : BitVec 32 := 0#32
  ![v3682.toNat, 0]

def k0_chk755 (i : grid0.Coords) (v3681 : BitVec 32) : Prop :=
  (∀ (k0_h3 : k0_cond3 i = 1#1), 8 ∣ (k0_mult1509 v3681).toNat) ∧
  (∀ (k0_h3 : k0_cond3 i = 1#1), ∀ a, (k0_off3037 v3681) a + S8x128.size a ≤ S131072x128.size a)
theorem k0_mult1509_dvd : ∀ (i : grid0.Coords) (v3681 : BitVec 32) (k0_hw755 : k0_chk755 i v3681), ∀ (k0_h3 : k0_cond3 i = 1#1), 8 ∣ (k0_mult1509 v3681).toNat := fun i v3681 k0_hw755 k0_h3 => k0_hw755.1 k0_h3
theorem k0_off3037_inb : ∀ (i : grid0.Coords) (v3681 : BitVec 32) (k0_hw755 : k0_chk755 i v3681), ∀ (k0_h3 : k0_cond3 i = 1#1), ∀ a, (k0_off3037 v3681) a + S8x128.size a ≤ S131072x128.size a := fun i v3681 k0_hw755 k0_h3 => k0_hw755.2 k0_h3

def k0_off3038 (i : grid0.Coords) : Fin 3 → Nat :=
  let c0_2217 : Index := 0#32
  let c0_2218 : Index := 0#32
  let arg1 : BitVec 32 := BitVec.ofNat 32 (i 1).val
  let c2_i32_2213 : BitVec 32 := 2#32
  let v3690 : BitVec 32 := Scalar.muli arg1 c2_i32_2213
  let c0_i32_2214 : BitVec 32 := 0#32
  let v3691 : BitVec 32 := Scalar.addi v3690 c0_i32_2214
  let c256_i32_2215 : BitVec 32 := 256#32
  let v3692 : BitVec 32 := Scalar.muli v3691 c256_i32_2215
  let c242_i32 : BitVec 32 := 242#32
  let v3693 : BitVec 32 := Scalar.addi v3692 c242_i32
  let v3695 : Index := Scalar.indexCast v3693
  ![0, 0, v3695.toNat]
def k0_mult1511 (v3696 : BitVec 32) : BitVec 32 :=
  v3696

def k0_mult1512 (i : grid0.Coords) : BitVec 32 :=
  let arg1 : BitVec 32 := BitVec.ofNat 32 (i 1).val
  let c2_i32_2213 : BitVec 32 := 2#32
  let v3690 : BitVec 32 := Scalar.muli arg1 c2_i32_2213
  let c0_i32_2214 : BitVec 32 := 0#32
  let v3691 : BitVec 32 := Scalar.addi v3690 c0_i32_2214
  let c256_i32_2215 : BitVec 32 := 256#32
  let v3692 : BitVec 32 := Scalar.muli v3691 c256_i32_2215
  let c242_i32 : BitVec 32 := 242#32
  let v3693 : BitVec 32 := Scalar.addi v3692 c242_i32
  let c8_i32_2219 : BitVec 32 := 8#32
  let v3698 : BitVec 32 := Scalar.muli v3693 c8_i32_2219
  v3698
def k0_off3039 (i : grid0.Coords) : Fin 1 → Nat :=
  let c1_i32_2216 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3694 : BitVec 32 := Scalar.subi c1_i32_2216 v9
  ![v3694.toNat]
def k0_off3040 (i : grid0.Coords) : Fin 3 → Nat :=
  let c1_i32_2216 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3694 : BitVec 32 := Scalar.subi c1_i32_2216 v9
  let arg1 : BitVec 32 := BitVec.ofNat 32 (i 1).val
  let c2_i32_2213 : BitVec 32 := 2#32
  let v3690 : BitVec 32 := Scalar.muli arg1 c2_i32_2213
  let c0_i32_2214 : BitVec 32 := 0#32
  let v3691 : BitVec 32 := Scalar.addi v3690 c0_i32_2214
  let c256_i32_2215 : BitVec 32 := 256#32
  let v3692 : BitVec 32 := Scalar.muli v3691 c256_i32_2215
  let c242_i32 : BitVec 32 := 242#32
  let v3693 : BitVec 32 := Scalar.addi v3692 c242_i32
  let c8_i32_2219 : BitVec 32 := 8#32
  let v3698 : BitVec 32 := Scalar.muli v3693 c8_i32_2219
  let v3699 : BitVec 32 := v3698
  let c0_i32_2220 : BitVec 32 := 0#32
  ![v3694.toNat, v3699.toNat, 0]
def k0_off3041 (v3696 : BitVec 32) : Fin 2 → Nat :=
  let v3697 : BitVec 32 := v3696
  let c0_i32_2221 : BitVec 32 := 0#32
  ![v3697.toNat, 0]

def k0_chk756 (i : grid0.Coords) (v3696 : BitVec 32) : Prop :=
  (∀ (k0_h3 : k0_cond3 i = 1#1), 8 ∣ (k0_mult1511 v3696).toNat) ∧
  (∀ (k0_h3 : k0_cond3 i = 1#1), ∀ a, (k0_off3041 v3696) a + S8x128.size a ≤ S131072x128.size a)
theorem k0_mult1511_dvd : ∀ (i : grid0.Coords) (v3696 : BitVec 32) (k0_hw756 : k0_chk756 i v3696), ∀ (k0_h3 : k0_cond3 i = 1#1), 8 ∣ (k0_mult1511 v3696).toNat := fun i v3696 k0_hw756 k0_h3 => k0_hw756.1 k0_h3
theorem k0_off3041_inb : ∀ (i : grid0.Coords) (v3696 : BitVec 32) (k0_hw756 : k0_chk756 i v3696), ∀ (k0_h3 : k0_cond3 i = 1#1), ∀ a, (k0_off3041 v3696) a + S8x128.size a ≤ S131072x128.size a := fun i v3696 k0_hw756 k0_h3 => k0_hw756.2 k0_h3

def k0_off3042 (i : grid0.Coords) : Fin 3 → Nat :=
  let c0_2226 : Index := 0#32
  let c0_2227 : Index := 0#32
  let arg1 : BitVec 32 := BitVec.ofNat 32 (i 1).val
  let c2_i32_2222 : BitVec 32 := 2#32
  let v3705 : BitVec 32 := Scalar.muli arg1 c2_i32_2222
  let c0_i32_2223 : BitVec 32 := 0#32
  let v3706 : BitVec 32 := Scalar.addi v3705 c0_i32_2223
  let c256_i32_2224 : BitVec 32 := 256#32
  let v3707 : BitVec 32 := Scalar.muli v3706 c256_i32_2224
  let c243_i32 : BitVec 32 := 243#32
  let v3708 : BitVec 32 := Scalar.addi v3707 c243_i32
  let v3710 : Index := Scalar.indexCast v3708
  ![0, 0, v3710.toNat]
def k0_mult1513 (v3711 : BitVec 32) : BitVec 32 :=
  v3711

def k0_mult1514 (i : grid0.Coords) : BitVec 32 :=
  let arg1 : BitVec 32 := BitVec.ofNat 32 (i 1).val
  let c2_i32_2222 : BitVec 32 := 2#32
  let v3705 : BitVec 32 := Scalar.muli arg1 c2_i32_2222
  let c0_i32_2223 : BitVec 32 := 0#32
  let v3706 : BitVec 32 := Scalar.addi v3705 c0_i32_2223
  let c256_i32_2224 : BitVec 32 := 256#32
  let v3707 : BitVec 32 := Scalar.muli v3706 c256_i32_2224
  let c243_i32 : BitVec 32 := 243#32
  let v3708 : BitVec 32 := Scalar.addi v3707 c243_i32
  let c8_i32_2228 : BitVec 32 := 8#32
  let v3713 : BitVec 32 := Scalar.muli v3708 c8_i32_2228
  v3713
def k0_off3043 (i : grid0.Coords) : Fin 1 → Nat :=
  let c1_i32_2225 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3709 : BitVec 32 := Scalar.subi c1_i32_2225 v9
  ![v3709.toNat]
def k0_off3044 (i : grid0.Coords) : Fin 3 → Nat :=
  let c1_i32_2225 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3709 : BitVec 32 := Scalar.subi c1_i32_2225 v9
  let arg1 : BitVec 32 := BitVec.ofNat 32 (i 1).val
  let c2_i32_2222 : BitVec 32 := 2#32
  let v3705 : BitVec 32 := Scalar.muli arg1 c2_i32_2222
  let c0_i32_2223 : BitVec 32 := 0#32
  let v3706 : BitVec 32 := Scalar.addi v3705 c0_i32_2223
  let c256_i32_2224 : BitVec 32 := 256#32
  let v3707 : BitVec 32 := Scalar.muli v3706 c256_i32_2224
  let c243_i32 : BitVec 32 := 243#32
  let v3708 : BitVec 32 := Scalar.addi v3707 c243_i32
  let c8_i32_2228 : BitVec 32 := 8#32
  let v3713 : BitVec 32 := Scalar.muli v3708 c8_i32_2228
  let v3714 : BitVec 32 := v3713
  let c0_i32_2229 : BitVec 32 := 0#32
  ![v3709.toNat, v3714.toNat, 0]
def k0_off3045 (v3711 : BitVec 32) : Fin 2 → Nat :=
  let v3712 : BitVec 32 := v3711
  let c0_i32_2230 : BitVec 32 := 0#32
  ![v3712.toNat, 0]

def k0_chk757 (i : grid0.Coords) (v3711 : BitVec 32) : Prop :=
  (∀ (k0_h3 : k0_cond3 i = 1#1), 8 ∣ (k0_mult1513 v3711).toNat) ∧
  (∀ (k0_h3 : k0_cond3 i = 1#1), ∀ a, (k0_off3045 v3711) a + S8x128.size a ≤ S131072x128.size a)
theorem k0_mult1513_dvd : ∀ (i : grid0.Coords) (v3711 : BitVec 32) (k0_hw757 : k0_chk757 i v3711), ∀ (k0_h3 : k0_cond3 i = 1#1), 8 ∣ (k0_mult1513 v3711).toNat := fun i v3711 k0_hw757 k0_h3 => k0_hw757.1 k0_h3
theorem k0_off3045_inb : ∀ (i : grid0.Coords) (v3711 : BitVec 32) (k0_hw757 : k0_chk757 i v3711), ∀ (k0_h3 : k0_cond3 i = 1#1), ∀ a, (k0_off3045 v3711) a + S8x128.size a ≤ S131072x128.size a := fun i v3711 k0_hw757 k0_h3 => k0_hw757.2 k0_h3

def k0_off3046 (i : grid0.Coords) : Fin 3 → Nat :=
  let c0_2235 : Index := 0#32
  let c0_2236 : Index := 0#32
  let arg1 : BitVec 32 := BitVec.ofNat 32 (i 1).val
  let c2_i32_2231 : BitVec 32 := 2#32
  let v3720 : BitVec 32 := Scalar.muli arg1 c2_i32_2231
  let c0_i32_2232 : BitVec 32 := 0#32
  let v3721 : BitVec 32 := Scalar.addi v3720 c0_i32_2232
  let c256_i32_2233 : BitVec 32 := 256#32
  let v3722 : BitVec 32 := Scalar.muli v3721 c256_i32_2233
  let c244_i32 : BitVec 32 := 244#32
  let v3723 : BitVec 32 := Scalar.addi v3722 c244_i32
  let v3725 : Index := Scalar.indexCast v3723
  ![0, 0, v3725.toNat]
def k0_mult1515 (v3726 : BitVec 32) : BitVec 32 :=
  v3726

def k0_mult1516 (i : grid0.Coords) : BitVec 32 :=
  let arg1 : BitVec 32 := BitVec.ofNat 32 (i 1).val
  let c2_i32_2231 : BitVec 32 := 2#32
  let v3720 : BitVec 32 := Scalar.muli arg1 c2_i32_2231
  let c0_i32_2232 : BitVec 32 := 0#32
  let v3721 : BitVec 32 := Scalar.addi v3720 c0_i32_2232
  let c256_i32_2233 : BitVec 32 := 256#32
  let v3722 : BitVec 32 := Scalar.muli v3721 c256_i32_2233
  let c244_i32 : BitVec 32 := 244#32
  let v3723 : BitVec 32 := Scalar.addi v3722 c244_i32
  let c8_i32_2237 : BitVec 32 := 8#32
  let v3728 : BitVec 32 := Scalar.muli v3723 c8_i32_2237
  v3728
def k0_off3047 (i : grid0.Coords) : Fin 1 → Nat :=
  let c1_i32_2234 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3724 : BitVec 32 := Scalar.subi c1_i32_2234 v9
  ![v3724.toNat]
def k0_off3048 (i : grid0.Coords) : Fin 3 → Nat :=
  let c1_i32_2234 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3724 : BitVec 32 := Scalar.subi c1_i32_2234 v9
  let arg1 : BitVec 32 := BitVec.ofNat 32 (i 1).val
  let c2_i32_2231 : BitVec 32 := 2#32
  let v3720 : BitVec 32 := Scalar.muli arg1 c2_i32_2231
  let c0_i32_2232 : BitVec 32 := 0#32
  let v3721 : BitVec 32 := Scalar.addi v3720 c0_i32_2232
  let c256_i32_2233 : BitVec 32 := 256#32
  let v3722 : BitVec 32 := Scalar.muli v3721 c256_i32_2233
  let c244_i32 : BitVec 32 := 244#32
  let v3723 : BitVec 32 := Scalar.addi v3722 c244_i32
  let c8_i32_2237 : BitVec 32 := 8#32
  let v3728 : BitVec 32 := Scalar.muli v3723 c8_i32_2237
  let v3729 : BitVec 32 := v3728
  let c0_i32_2238 : BitVec 32 := 0#32
  ![v3724.toNat, v3729.toNat, 0]
def k0_off3049 (v3726 : BitVec 32) : Fin 2 → Nat :=
  let v3727 : BitVec 32 := v3726
  let c0_i32_2239 : BitVec 32 := 0#32
  ![v3727.toNat, 0]

def k0_chk758 (i : grid0.Coords) (v3726 : BitVec 32) : Prop :=
  (∀ (k0_h3 : k0_cond3 i = 1#1), 8 ∣ (k0_mult1515 v3726).toNat) ∧
  (∀ (k0_h3 : k0_cond3 i = 1#1), ∀ a, (k0_off3049 v3726) a + S8x128.size a ≤ S131072x128.size a)
theorem k0_mult1515_dvd : ∀ (i : grid0.Coords) (v3726 : BitVec 32) (k0_hw758 : k0_chk758 i v3726), ∀ (k0_h3 : k0_cond3 i = 1#1), 8 ∣ (k0_mult1515 v3726).toNat := fun i v3726 k0_hw758 k0_h3 => k0_hw758.1 k0_h3
theorem k0_off3049_inb : ∀ (i : grid0.Coords) (v3726 : BitVec 32) (k0_hw758 : k0_chk758 i v3726), ∀ (k0_h3 : k0_cond3 i = 1#1), ∀ a, (k0_off3049 v3726) a + S8x128.size a ≤ S131072x128.size a := fun i v3726 k0_hw758 k0_h3 => k0_hw758.2 k0_h3

def k0_off3050 (i : grid0.Coords) : Fin 3 → Nat :=
  let c0_2244 : Index := 0#32
  let c0_2245 : Index := 0#32
  let arg1 : BitVec 32 := BitVec.ofNat 32 (i 1).val
  let c2_i32_2240 : BitVec 32 := 2#32
  let v3735 : BitVec 32 := Scalar.muli arg1 c2_i32_2240
  let c0_i32_2241 : BitVec 32 := 0#32
  let v3736 : BitVec 32 := Scalar.addi v3735 c0_i32_2241
  let c256_i32_2242 : BitVec 32 := 256#32
  let v3737 : BitVec 32 := Scalar.muli v3736 c256_i32_2242
  let c245_i32 : BitVec 32 := 245#32
  let v3738 : BitVec 32 := Scalar.addi v3737 c245_i32
  let v3740 : Index := Scalar.indexCast v3738
  ![0, 0, v3740.toNat]
def k0_mult1517 (v3741 : BitVec 32) : BitVec 32 :=
  v3741

def k0_mult1518 (i : grid0.Coords) : BitVec 32 :=
  let arg1 : BitVec 32 := BitVec.ofNat 32 (i 1).val
  let c2_i32_2240 : BitVec 32 := 2#32
  let v3735 : BitVec 32 := Scalar.muli arg1 c2_i32_2240
  let c0_i32_2241 : BitVec 32 := 0#32
  let v3736 : BitVec 32 := Scalar.addi v3735 c0_i32_2241
  let c256_i32_2242 : BitVec 32 := 256#32
  let v3737 : BitVec 32 := Scalar.muli v3736 c256_i32_2242
  let c245_i32 : BitVec 32 := 245#32
  let v3738 : BitVec 32 := Scalar.addi v3737 c245_i32
  let c8_i32_2246 : BitVec 32 := 8#32
  let v3743 : BitVec 32 := Scalar.muli v3738 c8_i32_2246
  v3743
def k0_off3051 (i : grid0.Coords) : Fin 1 → Nat :=
  let c1_i32_2243 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3739 : BitVec 32 := Scalar.subi c1_i32_2243 v9
  ![v3739.toNat]
def k0_off3052 (i : grid0.Coords) : Fin 3 → Nat :=
  let c1_i32_2243 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3739 : BitVec 32 := Scalar.subi c1_i32_2243 v9
  let arg1 : BitVec 32 := BitVec.ofNat 32 (i 1).val
  let c2_i32_2240 : BitVec 32 := 2#32
  let v3735 : BitVec 32 := Scalar.muli arg1 c2_i32_2240
  let c0_i32_2241 : BitVec 32 := 0#32
  let v3736 : BitVec 32 := Scalar.addi v3735 c0_i32_2241
  let c256_i32_2242 : BitVec 32 := 256#32
  let v3737 : BitVec 32 := Scalar.muli v3736 c256_i32_2242
  let c245_i32 : BitVec 32 := 245#32
  let v3738 : BitVec 32 := Scalar.addi v3737 c245_i32
  let c8_i32_2246 : BitVec 32 := 8#32
  let v3743 : BitVec 32 := Scalar.muli v3738 c8_i32_2246
  let v3744 : BitVec 32 := v3743
  let c0_i32_2247 : BitVec 32 := 0#32
  ![v3739.toNat, v3744.toNat, 0]
def k0_off3053 (v3741 : BitVec 32) : Fin 2 → Nat :=
  let v3742 : BitVec 32 := v3741
  let c0_i32_2248 : BitVec 32 := 0#32
  ![v3742.toNat, 0]

def k0_chk759 (i : grid0.Coords) (v3741 : BitVec 32) : Prop :=
  (∀ (k0_h3 : k0_cond3 i = 1#1), 8 ∣ (k0_mult1517 v3741).toNat) ∧
  (∀ (k0_h3 : k0_cond3 i = 1#1), ∀ a, (k0_off3053 v3741) a + S8x128.size a ≤ S131072x128.size a)
theorem k0_mult1517_dvd : ∀ (i : grid0.Coords) (v3741 : BitVec 32) (k0_hw759 : k0_chk759 i v3741), ∀ (k0_h3 : k0_cond3 i = 1#1), 8 ∣ (k0_mult1517 v3741).toNat := fun i v3741 k0_hw759 k0_h3 => k0_hw759.1 k0_h3
theorem k0_off3053_inb : ∀ (i : grid0.Coords) (v3741 : BitVec 32) (k0_hw759 : k0_chk759 i v3741), ∀ (k0_h3 : k0_cond3 i = 1#1), ∀ a, (k0_off3053 v3741) a + S8x128.size a ≤ S131072x128.size a := fun i v3741 k0_hw759 k0_h3 => k0_hw759.2 k0_h3

def k0_off3054 (i : grid0.Coords) : Fin 3 → Nat :=
  let c0_2253 : Index := 0#32
  let c0_2254 : Index := 0#32
  let arg1 : BitVec 32 := BitVec.ofNat 32 (i 1).val
  let c2_i32_2249 : BitVec 32 := 2#32
  let v3750 : BitVec 32 := Scalar.muli arg1 c2_i32_2249
  let c0_i32_2250 : BitVec 32 := 0#32
  let v3751 : BitVec 32 := Scalar.addi v3750 c0_i32_2250
  let c256_i32_2251 : BitVec 32 := 256#32
  let v3752 : BitVec 32 := Scalar.muli v3751 c256_i32_2251
  let c246_i32 : BitVec 32 := 246#32
  let v3753 : BitVec 32 := Scalar.addi v3752 c246_i32
  let v3755 : Index := Scalar.indexCast v3753
  ![0, 0, v3755.toNat]
def k0_mult1519 (v3756 : BitVec 32) : BitVec 32 :=
  v3756

def k0_mult1520 (i : grid0.Coords) : BitVec 32 :=
  let arg1 : BitVec 32 := BitVec.ofNat 32 (i 1).val
  let c2_i32_2249 : BitVec 32 := 2#32
  let v3750 : BitVec 32 := Scalar.muli arg1 c2_i32_2249
  let c0_i32_2250 : BitVec 32 := 0#32
  let v3751 : BitVec 32 := Scalar.addi v3750 c0_i32_2250
  let c256_i32_2251 : BitVec 32 := 256#32
  let v3752 : BitVec 32 := Scalar.muli v3751 c256_i32_2251
  let c246_i32 : BitVec 32 := 246#32
  let v3753 : BitVec 32 := Scalar.addi v3752 c246_i32
  let c8_i32_2255 : BitVec 32 := 8#32
  let v3758 : BitVec 32 := Scalar.muli v3753 c8_i32_2255
  v3758
def k0_off3055 (i : grid0.Coords) : Fin 1 → Nat :=
  let c1_i32_2252 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3754 : BitVec 32 := Scalar.subi c1_i32_2252 v9
  ![v3754.toNat]
def k0_off3056 (i : grid0.Coords) : Fin 3 → Nat :=
  let c1_i32_2252 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3754 : BitVec 32 := Scalar.subi c1_i32_2252 v9
  let arg1 : BitVec 32 := BitVec.ofNat 32 (i 1).val
  let c2_i32_2249 : BitVec 32 := 2#32
  let v3750 : BitVec 32 := Scalar.muli arg1 c2_i32_2249
  let c0_i32_2250 : BitVec 32 := 0#32
  let v3751 : BitVec 32 := Scalar.addi v3750 c0_i32_2250
  let c256_i32_2251 : BitVec 32 := 256#32
  let v3752 : BitVec 32 := Scalar.muli v3751 c256_i32_2251
  let c246_i32 : BitVec 32 := 246#32
  let v3753 : BitVec 32 := Scalar.addi v3752 c246_i32
  let c8_i32_2255 : BitVec 32 := 8#32
  let v3758 : BitVec 32 := Scalar.muli v3753 c8_i32_2255
  let v3759 : BitVec 32 := v3758
  let c0_i32_2256 : BitVec 32 := 0#32
  ![v3754.toNat, v3759.toNat, 0]
def k0_off3057 (v3756 : BitVec 32) : Fin 2 → Nat :=
  let v3757 : BitVec 32 := v3756
  let c0_i32_2257 : BitVec 32 := 0#32
  ![v3757.toNat, 0]

def k0_chk760 (i : grid0.Coords) (v3756 : BitVec 32) : Prop :=
  (∀ (k0_h3 : k0_cond3 i = 1#1), 8 ∣ (k0_mult1519 v3756).toNat) ∧
  (∀ (k0_h3 : k0_cond3 i = 1#1), ∀ a, (k0_off3057 v3756) a + S8x128.size a ≤ S131072x128.size a)
theorem k0_mult1519_dvd : ∀ (i : grid0.Coords) (v3756 : BitVec 32) (k0_hw760 : k0_chk760 i v3756), ∀ (k0_h3 : k0_cond3 i = 1#1), 8 ∣ (k0_mult1519 v3756).toNat := fun i v3756 k0_hw760 k0_h3 => k0_hw760.1 k0_h3
theorem k0_off3057_inb : ∀ (i : grid0.Coords) (v3756 : BitVec 32) (k0_hw760 : k0_chk760 i v3756), ∀ (k0_h3 : k0_cond3 i = 1#1), ∀ a, (k0_off3057 v3756) a + S8x128.size a ≤ S131072x128.size a := fun i v3756 k0_hw760 k0_h3 => k0_hw760.2 k0_h3

def k0_off3058 (i : grid0.Coords) : Fin 3 → Nat :=
  let c0_2262 : Index := 0#32
  let c0_2263 : Index := 0#32
  let arg1 : BitVec 32 := BitVec.ofNat 32 (i 1).val
  let c2_i32_2258 : BitVec 32 := 2#32
  let v3765 : BitVec 32 := Scalar.muli arg1 c2_i32_2258
  let c0_i32_2259 : BitVec 32 := 0#32
  let v3766 : BitVec 32 := Scalar.addi v3765 c0_i32_2259
  let c256_i32_2260 : BitVec 32 := 256#32
  let v3767 : BitVec 32 := Scalar.muli v3766 c256_i32_2260
  let c247_i32 : BitVec 32 := 247#32
  let v3768 : BitVec 32 := Scalar.addi v3767 c247_i32
  let v3770 : Index := Scalar.indexCast v3768
  ![0, 0, v3770.toNat]
def k0_mult1521 (v3771 : BitVec 32) : BitVec 32 :=
  v3771

def k0_mult1522 (i : grid0.Coords) : BitVec 32 :=
  let arg1 : BitVec 32 := BitVec.ofNat 32 (i 1).val
  let c2_i32_2258 : BitVec 32 := 2#32
  let v3765 : BitVec 32 := Scalar.muli arg1 c2_i32_2258
  let c0_i32_2259 : BitVec 32 := 0#32
  let v3766 : BitVec 32 := Scalar.addi v3765 c0_i32_2259
  let c256_i32_2260 : BitVec 32 := 256#32
  let v3767 : BitVec 32 := Scalar.muli v3766 c256_i32_2260
  let c247_i32 : BitVec 32 := 247#32
  let v3768 : BitVec 32 := Scalar.addi v3767 c247_i32
  let c8_i32_2264 : BitVec 32 := 8#32
  let v3773 : BitVec 32 := Scalar.muli v3768 c8_i32_2264
  v3773
def k0_off3059 (i : grid0.Coords) : Fin 1 → Nat :=
  let c1_i32_2261 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3769 : BitVec 32 := Scalar.subi c1_i32_2261 v9
  ![v3769.toNat]
def k0_off3060 (i : grid0.Coords) : Fin 3 → Nat :=
  let c1_i32_2261 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3769 : BitVec 32 := Scalar.subi c1_i32_2261 v9
  let arg1 : BitVec 32 := BitVec.ofNat 32 (i 1).val
  let c2_i32_2258 : BitVec 32 := 2#32
  let v3765 : BitVec 32 := Scalar.muli arg1 c2_i32_2258
  let c0_i32_2259 : BitVec 32 := 0#32
  let v3766 : BitVec 32 := Scalar.addi v3765 c0_i32_2259
  let c256_i32_2260 : BitVec 32 := 256#32
  let v3767 : BitVec 32 := Scalar.muli v3766 c256_i32_2260
  let c247_i32 : BitVec 32 := 247#32
  let v3768 : BitVec 32 := Scalar.addi v3767 c247_i32
  let c8_i32_2264 : BitVec 32 := 8#32
  let v3773 : BitVec 32 := Scalar.muli v3768 c8_i32_2264
  let v3774 : BitVec 32 := v3773
  let c0_i32_2265 : BitVec 32 := 0#32
  ![v3769.toNat, v3774.toNat, 0]
def k0_off3061 (v3771 : BitVec 32) : Fin 2 → Nat :=
  let v3772 : BitVec 32 := v3771
  let c0_i32_2266 : BitVec 32 := 0#32
  ![v3772.toNat, 0]

def k0_chk761 (i : grid0.Coords) (v3771 : BitVec 32) : Prop :=
  (∀ (k0_h3 : k0_cond3 i = 1#1), 8 ∣ (k0_mult1521 v3771).toNat) ∧
  (∀ (k0_h3 : k0_cond3 i = 1#1), ∀ a, (k0_off3061 v3771) a + S8x128.size a ≤ S131072x128.size a)
theorem k0_mult1521_dvd : ∀ (i : grid0.Coords) (v3771 : BitVec 32) (k0_hw761 : k0_chk761 i v3771), ∀ (k0_h3 : k0_cond3 i = 1#1), 8 ∣ (k0_mult1521 v3771).toNat := fun i v3771 k0_hw761 k0_h3 => k0_hw761.1 k0_h3
theorem k0_off3061_inb : ∀ (i : grid0.Coords) (v3771 : BitVec 32) (k0_hw761 : k0_chk761 i v3771), ∀ (k0_h3 : k0_cond3 i = 1#1), ∀ a, (k0_off3061 v3771) a + S8x128.size a ≤ S131072x128.size a := fun i v3771 k0_hw761 k0_h3 => k0_hw761.2 k0_h3

def k0_off3062 (i : grid0.Coords) : Fin 3 → Nat :=
  let c0_2271 : Index := 0#32
  let c0_2272 : Index := 0#32
  let arg1 : BitVec 32 := BitVec.ofNat 32 (i 1).val
  let c2_i32_2267 : BitVec 32 := 2#32
  let v3780 : BitVec 32 := Scalar.muli arg1 c2_i32_2267
  let c0_i32_2268 : BitVec 32 := 0#32
  let v3781 : BitVec 32 := Scalar.addi v3780 c0_i32_2268
  let c256_i32_2269 : BitVec 32 := 256#32
  let v3782 : BitVec 32 := Scalar.muli v3781 c256_i32_2269
  let c248_i32 : BitVec 32 := 248#32
  let v3783 : BitVec 32 := Scalar.addi v3782 c248_i32
  let v3785 : Index := Scalar.indexCast v3783
  ![0, 0, v3785.toNat]
def k0_mult1523 (v3786 : BitVec 32) : BitVec 32 :=
  v3786

def k0_mult1524 (i : grid0.Coords) : BitVec 32 :=
  let arg1 : BitVec 32 := BitVec.ofNat 32 (i 1).val
  let c2_i32_2267 : BitVec 32 := 2#32
  let v3780 : BitVec 32 := Scalar.muli arg1 c2_i32_2267
  let c0_i32_2268 : BitVec 32 := 0#32
  let v3781 : BitVec 32 := Scalar.addi v3780 c0_i32_2268
  let c256_i32_2269 : BitVec 32 := 256#32
  let v3782 : BitVec 32 := Scalar.muli v3781 c256_i32_2269
  let c248_i32 : BitVec 32 := 248#32
  let v3783 : BitVec 32 := Scalar.addi v3782 c248_i32
  let c8_i32_2273 : BitVec 32 := 8#32
  let v3788 : BitVec 32 := Scalar.muli v3783 c8_i32_2273
  v3788
def k0_off3063 (i : grid0.Coords) : Fin 1 → Nat :=
  let c1_i32_2270 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3784 : BitVec 32 := Scalar.subi c1_i32_2270 v9
  ![v3784.toNat]
def k0_off3064 (i : grid0.Coords) : Fin 3 → Nat :=
  let c1_i32_2270 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3784 : BitVec 32 := Scalar.subi c1_i32_2270 v9
  let arg1 : BitVec 32 := BitVec.ofNat 32 (i 1).val
  let c2_i32_2267 : BitVec 32 := 2#32
  let v3780 : BitVec 32 := Scalar.muli arg1 c2_i32_2267
  let c0_i32_2268 : BitVec 32 := 0#32
  let v3781 : BitVec 32 := Scalar.addi v3780 c0_i32_2268
  let c256_i32_2269 : BitVec 32 := 256#32
  let v3782 : BitVec 32 := Scalar.muli v3781 c256_i32_2269
  let c248_i32 : BitVec 32 := 248#32
  let v3783 : BitVec 32 := Scalar.addi v3782 c248_i32
  let c8_i32_2273 : BitVec 32 := 8#32
  let v3788 : BitVec 32 := Scalar.muli v3783 c8_i32_2273
  let v3789 : BitVec 32 := v3788
  let c0_i32_2274 : BitVec 32 := 0#32
  ![v3784.toNat, v3789.toNat, 0]
def k0_off3065 (v3786 : BitVec 32) : Fin 2 → Nat :=
  let v3787 : BitVec 32 := v3786
  let c0_i32_2275 : BitVec 32 := 0#32
  ![v3787.toNat, 0]

def k0_chk762 (i : grid0.Coords) (v3786 : BitVec 32) : Prop :=
  (∀ (k0_h3 : k0_cond3 i = 1#1), 8 ∣ (k0_mult1523 v3786).toNat) ∧
  (∀ (k0_h3 : k0_cond3 i = 1#1), ∀ a, (k0_off3065 v3786) a + S8x128.size a ≤ S131072x128.size a)
theorem k0_mult1523_dvd : ∀ (i : grid0.Coords) (v3786 : BitVec 32) (k0_hw762 : k0_chk762 i v3786), ∀ (k0_h3 : k0_cond3 i = 1#1), 8 ∣ (k0_mult1523 v3786).toNat := fun i v3786 k0_hw762 k0_h3 => k0_hw762.1 k0_h3
theorem k0_off3065_inb : ∀ (i : grid0.Coords) (v3786 : BitVec 32) (k0_hw762 : k0_chk762 i v3786), ∀ (k0_h3 : k0_cond3 i = 1#1), ∀ a, (k0_off3065 v3786) a + S8x128.size a ≤ S131072x128.size a := fun i v3786 k0_hw762 k0_h3 => k0_hw762.2 k0_h3

def k0_off3066 (i : grid0.Coords) : Fin 3 → Nat :=
  let c0_2280 : Index := 0#32
  let c0_2281 : Index := 0#32
  let arg1 : BitVec 32 := BitVec.ofNat 32 (i 1).val
  let c2_i32_2276 : BitVec 32 := 2#32
  let v3795 : BitVec 32 := Scalar.muli arg1 c2_i32_2276
  let c0_i32_2277 : BitVec 32 := 0#32
  let v3796 : BitVec 32 := Scalar.addi v3795 c0_i32_2277
  let c256_i32_2278 : BitVec 32 := 256#32
  let v3797 : BitVec 32 := Scalar.muli v3796 c256_i32_2278
  let c249_i32 : BitVec 32 := 249#32
  let v3798 : BitVec 32 := Scalar.addi v3797 c249_i32
  let v3800 : Index := Scalar.indexCast v3798
  ![0, 0, v3800.toNat]
def k0_mult1525 (v3801 : BitVec 32) : BitVec 32 :=
  v3801

def k0_mult1526 (i : grid0.Coords) : BitVec 32 :=
  let arg1 : BitVec 32 := BitVec.ofNat 32 (i 1).val
  let c2_i32_2276 : BitVec 32 := 2#32
  let v3795 : BitVec 32 := Scalar.muli arg1 c2_i32_2276
  let c0_i32_2277 : BitVec 32 := 0#32
  let v3796 : BitVec 32 := Scalar.addi v3795 c0_i32_2277
  let c256_i32_2278 : BitVec 32 := 256#32
  let v3797 : BitVec 32 := Scalar.muli v3796 c256_i32_2278
  let c249_i32 : BitVec 32 := 249#32
  let v3798 : BitVec 32 := Scalar.addi v3797 c249_i32
  let c8_i32_2282 : BitVec 32 := 8#32
  let v3803 : BitVec 32 := Scalar.muli v3798 c8_i32_2282
  v3803
def k0_off3067 (i : grid0.Coords) : Fin 1 → Nat :=
  let c1_i32_2279 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3799 : BitVec 32 := Scalar.subi c1_i32_2279 v9
  ![v3799.toNat]
def k0_off3068 (i : grid0.Coords) : Fin 3 → Nat :=
  let c1_i32_2279 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3799 : BitVec 32 := Scalar.subi c1_i32_2279 v9
  let arg1 : BitVec 32 := BitVec.ofNat 32 (i 1).val
  let c2_i32_2276 : BitVec 32 := 2#32
  let v3795 : BitVec 32 := Scalar.muli arg1 c2_i32_2276
  let c0_i32_2277 : BitVec 32 := 0#32
  let v3796 : BitVec 32 := Scalar.addi v3795 c0_i32_2277
  let c256_i32_2278 : BitVec 32 := 256#32
  let v3797 : BitVec 32 := Scalar.muli v3796 c256_i32_2278
  let c249_i32 : BitVec 32 := 249#32
  let v3798 : BitVec 32 := Scalar.addi v3797 c249_i32
  let c8_i32_2282 : BitVec 32 := 8#32
  let v3803 : BitVec 32 := Scalar.muli v3798 c8_i32_2282
  let v3804 : BitVec 32 := v3803
  let c0_i32_2283 : BitVec 32 := 0#32
  ![v3799.toNat, v3804.toNat, 0]
def k0_off3069 (v3801 : BitVec 32) : Fin 2 → Nat :=
  let v3802 : BitVec 32 := v3801
  let c0_i32_2284 : BitVec 32 := 0#32
  ![v3802.toNat, 0]

def k0_chk763 (i : grid0.Coords) (v3801 : BitVec 32) : Prop :=
  (∀ (k0_h3 : k0_cond3 i = 1#1), 8 ∣ (k0_mult1525 v3801).toNat) ∧
  (∀ (k0_h3 : k0_cond3 i = 1#1), ∀ a, (k0_off3069 v3801) a + S8x128.size a ≤ S131072x128.size a)
theorem k0_mult1525_dvd : ∀ (i : grid0.Coords) (v3801 : BitVec 32) (k0_hw763 : k0_chk763 i v3801), ∀ (k0_h3 : k0_cond3 i = 1#1), 8 ∣ (k0_mult1525 v3801).toNat := fun i v3801 k0_hw763 k0_h3 => k0_hw763.1 k0_h3
theorem k0_off3069_inb : ∀ (i : grid0.Coords) (v3801 : BitVec 32) (k0_hw763 : k0_chk763 i v3801), ∀ (k0_h3 : k0_cond3 i = 1#1), ∀ a, (k0_off3069 v3801) a + S8x128.size a ≤ S131072x128.size a := fun i v3801 k0_hw763 k0_h3 => k0_hw763.2 k0_h3

def k0_off3070 (i : grid0.Coords) : Fin 3 → Nat :=
  let c0_2289 : Index := 0#32
  let c0_2290 : Index := 0#32
  let arg1 : BitVec 32 := BitVec.ofNat 32 (i 1).val
  let c2_i32_2285 : BitVec 32 := 2#32
  let v3810 : BitVec 32 := Scalar.muli arg1 c2_i32_2285
  let c0_i32_2286 : BitVec 32 := 0#32
  let v3811 : BitVec 32 := Scalar.addi v3810 c0_i32_2286
  let c256_i32_2287 : BitVec 32 := 256#32
  let v3812 : BitVec 32 := Scalar.muli v3811 c256_i32_2287
  let c250_i32 : BitVec 32 := 250#32
  let v3813 : BitVec 32 := Scalar.addi v3812 c250_i32
  let v3815 : Index := Scalar.indexCast v3813
  ![0, 0, v3815.toNat]
def k0_mult1527 (v3816 : BitVec 32) : BitVec 32 :=
  v3816

def k0_mult1528 (i : grid0.Coords) : BitVec 32 :=
  let arg1 : BitVec 32 := BitVec.ofNat 32 (i 1).val
  let c2_i32_2285 : BitVec 32 := 2#32
  let v3810 : BitVec 32 := Scalar.muli arg1 c2_i32_2285
  let c0_i32_2286 : BitVec 32 := 0#32
  let v3811 : BitVec 32 := Scalar.addi v3810 c0_i32_2286
  let c256_i32_2287 : BitVec 32 := 256#32
  let v3812 : BitVec 32 := Scalar.muli v3811 c256_i32_2287
  let c250_i32 : BitVec 32 := 250#32
  let v3813 : BitVec 32 := Scalar.addi v3812 c250_i32
  let c8_i32_2291 : BitVec 32 := 8#32
  let v3818 : BitVec 32 := Scalar.muli v3813 c8_i32_2291
  v3818
def k0_off3071 (i : grid0.Coords) : Fin 1 → Nat :=
  let c1_i32_2288 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3814 : BitVec 32 := Scalar.subi c1_i32_2288 v9
  ![v3814.toNat]
def k0_off3072 (i : grid0.Coords) : Fin 3 → Nat :=
  let c1_i32_2288 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3814 : BitVec 32 := Scalar.subi c1_i32_2288 v9
  let arg1 : BitVec 32 := BitVec.ofNat 32 (i 1).val
  let c2_i32_2285 : BitVec 32 := 2#32
  let v3810 : BitVec 32 := Scalar.muli arg1 c2_i32_2285
  let c0_i32_2286 : BitVec 32 := 0#32
  let v3811 : BitVec 32 := Scalar.addi v3810 c0_i32_2286
  let c256_i32_2287 : BitVec 32 := 256#32
  let v3812 : BitVec 32 := Scalar.muli v3811 c256_i32_2287
  let c250_i32 : BitVec 32 := 250#32
  let v3813 : BitVec 32 := Scalar.addi v3812 c250_i32
  let c8_i32_2291 : BitVec 32 := 8#32
  let v3818 : BitVec 32 := Scalar.muli v3813 c8_i32_2291
  let v3819 : BitVec 32 := v3818
  let c0_i32_2292 : BitVec 32 := 0#32
  ![v3814.toNat, v3819.toNat, 0]
def k0_off3073 (v3816 : BitVec 32) : Fin 2 → Nat :=
  let v3817 : BitVec 32 := v3816
  let c0_i32_2293 : BitVec 32 := 0#32
  ![v3817.toNat, 0]

def k0_chk764 (i : grid0.Coords) (v3816 : BitVec 32) : Prop :=
  (∀ (k0_h3 : k0_cond3 i = 1#1), 8 ∣ (k0_mult1527 v3816).toNat) ∧
  (∀ (k0_h3 : k0_cond3 i = 1#1), ∀ a, (k0_off3073 v3816) a + S8x128.size a ≤ S131072x128.size a)
theorem k0_mult1527_dvd : ∀ (i : grid0.Coords) (v3816 : BitVec 32) (k0_hw764 : k0_chk764 i v3816), ∀ (k0_h3 : k0_cond3 i = 1#1), 8 ∣ (k0_mult1527 v3816).toNat := fun i v3816 k0_hw764 k0_h3 => k0_hw764.1 k0_h3
theorem k0_off3073_inb : ∀ (i : grid0.Coords) (v3816 : BitVec 32) (k0_hw764 : k0_chk764 i v3816), ∀ (k0_h3 : k0_cond3 i = 1#1), ∀ a, (k0_off3073 v3816) a + S8x128.size a ≤ S131072x128.size a := fun i v3816 k0_hw764 k0_h3 => k0_hw764.2 k0_h3

def k0_off3074 (i : grid0.Coords) : Fin 3 → Nat :=
  let c0_2298 : Index := 0#32
  let c0_2299 : Index := 0#32
  let arg1 : BitVec 32 := BitVec.ofNat 32 (i 1).val
  let c2_i32_2294 : BitVec 32 := 2#32
  let v3825 : BitVec 32 := Scalar.muli arg1 c2_i32_2294
  let c0_i32_2295 : BitVec 32 := 0#32
  let v3826 : BitVec 32 := Scalar.addi v3825 c0_i32_2295
  let c256_i32_2296 : BitVec 32 := 256#32
  let v3827 : BitVec 32 := Scalar.muli v3826 c256_i32_2296
  let c251_i32 : BitVec 32 := 251#32
  let v3828 : BitVec 32 := Scalar.addi v3827 c251_i32
  let v3830 : Index := Scalar.indexCast v3828
  ![0, 0, v3830.toNat]
def k0_mult1529 (v3831 : BitVec 32) : BitVec 32 :=
  v3831

def k0_mult1530 (i : grid0.Coords) : BitVec 32 :=
  let arg1 : BitVec 32 := BitVec.ofNat 32 (i 1).val
  let c2_i32_2294 : BitVec 32 := 2#32
  let v3825 : BitVec 32 := Scalar.muli arg1 c2_i32_2294
  let c0_i32_2295 : BitVec 32 := 0#32
  let v3826 : BitVec 32 := Scalar.addi v3825 c0_i32_2295
  let c256_i32_2296 : BitVec 32 := 256#32
  let v3827 : BitVec 32 := Scalar.muli v3826 c256_i32_2296
  let c251_i32 : BitVec 32 := 251#32
  let v3828 : BitVec 32 := Scalar.addi v3827 c251_i32
  let c8_i32_2300 : BitVec 32 := 8#32
  let v3833 : BitVec 32 := Scalar.muli v3828 c8_i32_2300
  v3833
def k0_off3075 (i : grid0.Coords) : Fin 1 → Nat :=
  let c1_i32_2297 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3829 : BitVec 32 := Scalar.subi c1_i32_2297 v9
  ![v3829.toNat]
def k0_off3076 (i : grid0.Coords) : Fin 3 → Nat :=
  let c1_i32_2297 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3829 : BitVec 32 := Scalar.subi c1_i32_2297 v9
  let arg1 : BitVec 32 := BitVec.ofNat 32 (i 1).val
  let c2_i32_2294 : BitVec 32 := 2#32
  let v3825 : BitVec 32 := Scalar.muli arg1 c2_i32_2294
  let c0_i32_2295 : BitVec 32 := 0#32
  let v3826 : BitVec 32 := Scalar.addi v3825 c0_i32_2295
  let c256_i32_2296 : BitVec 32 := 256#32
  let v3827 : BitVec 32 := Scalar.muli v3826 c256_i32_2296
  let c251_i32 : BitVec 32 := 251#32
  let v3828 : BitVec 32 := Scalar.addi v3827 c251_i32
  let c8_i32_2300 : BitVec 32 := 8#32
  let v3833 : BitVec 32 := Scalar.muli v3828 c8_i32_2300
  let v3834 : BitVec 32 := v3833
  let c0_i32_2301 : BitVec 32 := 0#32
  ![v3829.toNat, v3834.toNat, 0]
def k0_off3077 (v3831 : BitVec 32) : Fin 2 → Nat :=
  let v3832 : BitVec 32 := v3831
  let c0_i32_2302 : BitVec 32 := 0#32
  ![v3832.toNat, 0]

def k0_chk765 (i : grid0.Coords) (v3831 : BitVec 32) : Prop :=
  (∀ (k0_h3 : k0_cond3 i = 1#1), 8 ∣ (k0_mult1529 v3831).toNat) ∧
  (∀ (k0_h3 : k0_cond3 i = 1#1), ∀ a, (k0_off3077 v3831) a + S8x128.size a ≤ S131072x128.size a)
theorem k0_mult1529_dvd : ∀ (i : grid0.Coords) (v3831 : BitVec 32) (k0_hw765 : k0_chk765 i v3831), ∀ (k0_h3 : k0_cond3 i = 1#1), 8 ∣ (k0_mult1529 v3831).toNat := fun i v3831 k0_hw765 k0_h3 => k0_hw765.1 k0_h3
theorem k0_off3077_inb : ∀ (i : grid0.Coords) (v3831 : BitVec 32) (k0_hw765 : k0_chk765 i v3831), ∀ (k0_h3 : k0_cond3 i = 1#1), ∀ a, (k0_off3077 v3831) a + S8x128.size a ≤ S131072x128.size a := fun i v3831 k0_hw765 k0_h3 => k0_hw765.2 k0_h3

def k0_off3078 (i : grid0.Coords) : Fin 3 → Nat :=
  let c0_2307 : Index := 0#32
  let c0_2308 : Index := 0#32
  let arg1 : BitVec 32 := BitVec.ofNat 32 (i 1).val
  let c2_i32_2303 : BitVec 32 := 2#32
  let v3840 : BitVec 32 := Scalar.muli arg1 c2_i32_2303
  let c0_i32_2304 : BitVec 32 := 0#32
  let v3841 : BitVec 32 := Scalar.addi v3840 c0_i32_2304
  let c256_i32_2305 : BitVec 32 := 256#32
  let v3842 : BitVec 32 := Scalar.muli v3841 c256_i32_2305
  let c252_i32 : BitVec 32 := 252#32
  let v3843 : BitVec 32 := Scalar.addi v3842 c252_i32
  let v3845 : Index := Scalar.indexCast v3843
  ![0, 0, v3845.toNat]
def k0_mult1531 (v3846 : BitVec 32) : BitVec 32 :=
  v3846

def k0_mult1532 (i : grid0.Coords) : BitVec 32 :=
  let arg1 : BitVec 32 := BitVec.ofNat 32 (i 1).val
  let c2_i32_2303 : BitVec 32 := 2#32
  let v3840 : BitVec 32 := Scalar.muli arg1 c2_i32_2303
  let c0_i32_2304 : BitVec 32 := 0#32
  let v3841 : BitVec 32 := Scalar.addi v3840 c0_i32_2304
  let c256_i32_2305 : BitVec 32 := 256#32
  let v3842 : BitVec 32 := Scalar.muli v3841 c256_i32_2305
  let c252_i32 : BitVec 32 := 252#32
  let v3843 : BitVec 32 := Scalar.addi v3842 c252_i32
  let c8_i32_2309 : BitVec 32 := 8#32
  let v3848 : BitVec 32 := Scalar.muli v3843 c8_i32_2309
  v3848
def k0_off3079 (i : grid0.Coords) : Fin 1 → Nat :=
  let c1_i32_2306 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3844 : BitVec 32 := Scalar.subi c1_i32_2306 v9
  ![v3844.toNat]
def k0_off3080 (i : grid0.Coords) : Fin 3 → Nat :=
  let c1_i32_2306 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3844 : BitVec 32 := Scalar.subi c1_i32_2306 v9
  let arg1 : BitVec 32 := BitVec.ofNat 32 (i 1).val
  let c2_i32_2303 : BitVec 32 := 2#32
  let v3840 : BitVec 32 := Scalar.muli arg1 c2_i32_2303
  let c0_i32_2304 : BitVec 32 := 0#32
  let v3841 : BitVec 32 := Scalar.addi v3840 c0_i32_2304
  let c256_i32_2305 : BitVec 32 := 256#32
  let v3842 : BitVec 32 := Scalar.muli v3841 c256_i32_2305
  let c252_i32 : BitVec 32 := 252#32
  let v3843 : BitVec 32 := Scalar.addi v3842 c252_i32
  let c8_i32_2309 : BitVec 32 := 8#32
  let v3848 : BitVec 32 := Scalar.muli v3843 c8_i32_2309
  let v3849 : BitVec 32 := v3848
  let c0_i32_2310 : BitVec 32 := 0#32
  ![v3844.toNat, v3849.toNat, 0]
def k0_off3081 (v3846 : BitVec 32) : Fin 2 → Nat :=
  let v3847 : BitVec 32 := v3846
  let c0_i32_2311 : BitVec 32 := 0#32
  ![v3847.toNat, 0]

def k0_chk766 (i : grid0.Coords) (v3846 : BitVec 32) : Prop :=
  (∀ (k0_h3 : k0_cond3 i = 1#1), 8 ∣ (k0_mult1531 v3846).toNat) ∧
  (∀ (k0_h3 : k0_cond3 i = 1#1), ∀ a, (k0_off3081 v3846) a + S8x128.size a ≤ S131072x128.size a)
theorem k0_mult1531_dvd : ∀ (i : grid0.Coords) (v3846 : BitVec 32) (k0_hw766 : k0_chk766 i v3846), ∀ (k0_h3 : k0_cond3 i = 1#1), 8 ∣ (k0_mult1531 v3846).toNat := fun i v3846 k0_hw766 k0_h3 => k0_hw766.1 k0_h3
theorem k0_off3081_inb : ∀ (i : grid0.Coords) (v3846 : BitVec 32) (k0_hw766 : k0_chk766 i v3846), ∀ (k0_h3 : k0_cond3 i = 1#1), ∀ a, (k0_off3081 v3846) a + S8x128.size a ≤ S131072x128.size a := fun i v3846 k0_hw766 k0_h3 => k0_hw766.2 k0_h3

def k0_off3082 (i : grid0.Coords) : Fin 3 → Nat :=
  let c0_2316 : Index := 0#32
  let c0_2317 : Index := 0#32
  let arg1 : BitVec 32 := BitVec.ofNat 32 (i 1).val
  let c2_i32_2312 : BitVec 32 := 2#32
  let v3855 : BitVec 32 := Scalar.muli arg1 c2_i32_2312
  let c0_i32_2313 : BitVec 32 := 0#32
  let v3856 : BitVec 32 := Scalar.addi v3855 c0_i32_2313
  let c256_i32_2314 : BitVec 32 := 256#32
  let v3857 : BitVec 32 := Scalar.muli v3856 c256_i32_2314
  let c253_i32 : BitVec 32 := 253#32
  let v3858 : BitVec 32 := Scalar.addi v3857 c253_i32
  let v3860 : Index := Scalar.indexCast v3858
  ![0, 0, v3860.toNat]
def k0_mult1533 (v3861 : BitVec 32) : BitVec 32 :=
  v3861

def k0_mult1534 (i : grid0.Coords) : BitVec 32 :=
  let arg1 : BitVec 32 := BitVec.ofNat 32 (i 1).val
  let c2_i32_2312 : BitVec 32 := 2#32
  let v3855 : BitVec 32 := Scalar.muli arg1 c2_i32_2312
  let c0_i32_2313 : BitVec 32 := 0#32
  let v3856 : BitVec 32 := Scalar.addi v3855 c0_i32_2313
  let c256_i32_2314 : BitVec 32 := 256#32
  let v3857 : BitVec 32 := Scalar.muli v3856 c256_i32_2314
  let c253_i32 : BitVec 32 := 253#32
  let v3858 : BitVec 32 := Scalar.addi v3857 c253_i32
  let c8_i32_2318 : BitVec 32 := 8#32
  let v3863 : BitVec 32 := Scalar.muli v3858 c8_i32_2318
  v3863
def k0_off3083 (i : grid0.Coords) : Fin 1 → Nat :=
  let c1_i32_2315 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3859 : BitVec 32 := Scalar.subi c1_i32_2315 v9
  ![v3859.toNat]
def k0_off3084 (i : grid0.Coords) : Fin 3 → Nat :=
  let c1_i32_2315 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3859 : BitVec 32 := Scalar.subi c1_i32_2315 v9
  let arg1 : BitVec 32 := BitVec.ofNat 32 (i 1).val
  let c2_i32_2312 : BitVec 32 := 2#32
  let v3855 : BitVec 32 := Scalar.muli arg1 c2_i32_2312
  let c0_i32_2313 : BitVec 32 := 0#32
  let v3856 : BitVec 32 := Scalar.addi v3855 c0_i32_2313
  let c256_i32_2314 : BitVec 32 := 256#32
  let v3857 : BitVec 32 := Scalar.muli v3856 c256_i32_2314
  let c253_i32 : BitVec 32 := 253#32
  let v3858 : BitVec 32 := Scalar.addi v3857 c253_i32
  let c8_i32_2318 : BitVec 32 := 8#32
  let v3863 : BitVec 32 := Scalar.muli v3858 c8_i32_2318
  let v3864 : BitVec 32 := v3863
  let c0_i32_2319 : BitVec 32 := 0#32
  ![v3859.toNat, v3864.toNat, 0]
def k0_off3085 (v3861 : BitVec 32) : Fin 2 → Nat :=
  let v3862 : BitVec 32 := v3861
  let c0_i32_2320 : BitVec 32 := 0#32
  ![v3862.toNat, 0]

def k0_chk767 (i : grid0.Coords) (v3861 : BitVec 32) : Prop :=
  (∀ (k0_h3 : k0_cond3 i = 1#1), 8 ∣ (k0_mult1533 v3861).toNat) ∧
  (∀ (k0_h3 : k0_cond3 i = 1#1), ∀ a, (k0_off3085 v3861) a + S8x128.size a ≤ S131072x128.size a)
theorem k0_mult1533_dvd : ∀ (i : grid0.Coords) (v3861 : BitVec 32) (k0_hw767 : k0_chk767 i v3861), ∀ (k0_h3 : k0_cond3 i = 1#1), 8 ∣ (k0_mult1533 v3861).toNat := fun i v3861 k0_hw767 k0_h3 => k0_hw767.1 k0_h3
theorem k0_off3085_inb : ∀ (i : grid0.Coords) (v3861 : BitVec 32) (k0_hw767 : k0_chk767 i v3861), ∀ (k0_h3 : k0_cond3 i = 1#1), ∀ a, (k0_off3085 v3861) a + S8x128.size a ≤ S131072x128.size a := fun i v3861 k0_hw767 k0_h3 => k0_hw767.2 k0_h3

def k0_off3086 (i : grid0.Coords) : Fin 3 → Nat :=
  let c0_2325 : Index := 0#32
  let c0_2326 : Index := 0#32
  let arg1 : BitVec 32 := BitVec.ofNat 32 (i 1).val
  let c2_i32_2321 : BitVec 32 := 2#32
  let v3870 : BitVec 32 := Scalar.muli arg1 c2_i32_2321
  let c0_i32_2322 : BitVec 32 := 0#32
  let v3871 : BitVec 32 := Scalar.addi v3870 c0_i32_2322
  let c256_i32_2323 : BitVec 32 := 256#32
  let v3872 : BitVec 32 := Scalar.muli v3871 c256_i32_2323
  let c254_i32 : BitVec 32 := 254#32
  let v3873 : BitVec 32 := Scalar.addi v3872 c254_i32
  let v3875 : Index := Scalar.indexCast v3873
  ![0, 0, v3875.toNat]
def k0_mult1535 (v3876 : BitVec 32) : BitVec 32 :=
  v3876

def k0_mult1536 (i : grid0.Coords) : BitVec 32 :=
  let arg1 : BitVec 32 := BitVec.ofNat 32 (i 1).val
  let c2_i32_2321 : BitVec 32 := 2#32
  let v3870 : BitVec 32 := Scalar.muli arg1 c2_i32_2321
  let c0_i32_2322 : BitVec 32 := 0#32
  let v3871 : BitVec 32 := Scalar.addi v3870 c0_i32_2322
  let c256_i32_2323 : BitVec 32 := 256#32
  let v3872 : BitVec 32 := Scalar.muli v3871 c256_i32_2323
  let c254_i32 : BitVec 32 := 254#32
  let v3873 : BitVec 32 := Scalar.addi v3872 c254_i32
  let c8_i32_2327 : BitVec 32 := 8#32
  let v3878 : BitVec 32 := Scalar.muli v3873 c8_i32_2327
  v3878
def k0_off3087 (i : grid0.Coords) : Fin 1 → Nat :=
  let c1_i32_2324 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3874 : BitVec 32 := Scalar.subi c1_i32_2324 v9
  ![v3874.toNat]
def k0_off3088 (i : grid0.Coords) : Fin 3 → Nat :=
  let c1_i32_2324 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3874 : BitVec 32 := Scalar.subi c1_i32_2324 v9
  let arg1 : BitVec 32 := BitVec.ofNat 32 (i 1).val
  let c2_i32_2321 : BitVec 32 := 2#32
  let v3870 : BitVec 32 := Scalar.muli arg1 c2_i32_2321
  let c0_i32_2322 : BitVec 32 := 0#32
  let v3871 : BitVec 32 := Scalar.addi v3870 c0_i32_2322
  let c256_i32_2323 : BitVec 32 := 256#32
  let v3872 : BitVec 32 := Scalar.muli v3871 c256_i32_2323
  let c254_i32 : BitVec 32 := 254#32
  let v3873 : BitVec 32 := Scalar.addi v3872 c254_i32
  let c8_i32_2327 : BitVec 32 := 8#32
  let v3878 : BitVec 32 := Scalar.muli v3873 c8_i32_2327
  let v3879 : BitVec 32 := v3878
  let c0_i32_2328 : BitVec 32 := 0#32
  ![v3874.toNat, v3879.toNat, 0]
def k0_off3089 (v3876 : BitVec 32) : Fin 2 → Nat :=
  let v3877 : BitVec 32 := v3876
  let c0_i32_2329 : BitVec 32 := 0#32
  ![v3877.toNat, 0]

def k0_chk768 (i : grid0.Coords) (v3876 : BitVec 32) : Prop :=
  (∀ (k0_h3 : k0_cond3 i = 1#1), 8 ∣ (k0_mult1535 v3876).toNat) ∧
  (∀ (k0_h3 : k0_cond3 i = 1#1), ∀ a, (k0_off3089 v3876) a + S8x128.size a ≤ S131072x128.size a)
theorem k0_mult1535_dvd : ∀ (i : grid0.Coords) (v3876 : BitVec 32) (k0_hw768 : k0_chk768 i v3876), ∀ (k0_h3 : k0_cond3 i = 1#1), 8 ∣ (k0_mult1535 v3876).toNat := fun i v3876 k0_hw768 k0_h3 => k0_hw768.1 k0_h3
theorem k0_off3089_inb : ∀ (i : grid0.Coords) (v3876 : BitVec 32) (k0_hw768 : k0_chk768 i v3876), ∀ (k0_h3 : k0_cond3 i = 1#1), ∀ a, (k0_off3089 v3876) a + S8x128.size a ≤ S131072x128.size a := fun i v3876 k0_hw768 k0_h3 => k0_hw768.2 k0_h3

def k0_off3090 (i : grid0.Coords) : Fin 3 → Nat :=
  let c0_2334 : Index := 0#32
  let c0_2335 : Index := 0#32
  let arg1 : BitVec 32 := BitVec.ofNat 32 (i 1).val
  let c2_i32_2330 : BitVec 32 := 2#32
  let v3885 : BitVec 32 := Scalar.muli arg1 c2_i32_2330
  let c0_i32_2331 : BitVec 32 := 0#32
  let v3886 : BitVec 32 := Scalar.addi v3885 c0_i32_2331
  let c256_i32_2332 : BitVec 32 := 256#32
  let v3887 : BitVec 32 := Scalar.muli v3886 c256_i32_2332
  let c255_i32 : BitVec 32 := 255#32
  let v3888 : BitVec 32 := Scalar.addi v3887 c255_i32
  let v3890 : Index := Scalar.indexCast v3888
  ![0, 0, v3890.toNat]
def k0_mult1537 (v3891 : BitVec 32) : BitVec 32 :=
  v3891

def k0_mult1538 (i : grid0.Coords) : BitVec 32 :=
  let arg1 : BitVec 32 := BitVec.ofNat 32 (i 1).val
  let c2_i32_2330 : BitVec 32 := 2#32
  let v3885 : BitVec 32 := Scalar.muli arg1 c2_i32_2330
  let c0_i32_2331 : BitVec 32 := 0#32
  let v3886 : BitVec 32 := Scalar.addi v3885 c0_i32_2331
  let c256_i32_2332 : BitVec 32 := 256#32
  let v3887 : BitVec 32 := Scalar.muli v3886 c256_i32_2332
  let c255_i32 : BitVec 32 := 255#32
  let v3888 : BitVec 32 := Scalar.addi v3887 c255_i32
  let c8_i32_2336 : BitVec 32 := 8#32
  let v3893 : BitVec 32 := Scalar.muli v3888 c8_i32_2336
  v3893
def k0_off3091 (i : grid0.Coords) : Fin 1 → Nat :=
  let c1_i32_2333 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3889 : BitVec 32 := Scalar.subi c1_i32_2333 v9
  ![v3889.toNat]
def k0_off3092 (i : grid0.Coords) : Fin 3 → Nat :=
  let c1_i32_2333 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3889 : BitVec 32 := Scalar.subi c1_i32_2333 v9
  let arg1 : BitVec 32 := BitVec.ofNat 32 (i 1).val
  let c2_i32_2330 : BitVec 32 := 2#32
  let v3885 : BitVec 32 := Scalar.muli arg1 c2_i32_2330
  let c0_i32_2331 : BitVec 32 := 0#32
  let v3886 : BitVec 32 := Scalar.addi v3885 c0_i32_2331
  let c256_i32_2332 : BitVec 32 := 256#32
  let v3887 : BitVec 32 := Scalar.muli v3886 c256_i32_2332
  let c255_i32 : BitVec 32 := 255#32
  let v3888 : BitVec 32 := Scalar.addi v3887 c255_i32
  let c8_i32_2336 : BitVec 32 := 8#32
  let v3893 : BitVec 32 := Scalar.muli v3888 c8_i32_2336
  let v3894 : BitVec 32 := v3893
  let c0_i32_2337 : BitVec 32 := 0#32
  ![v3889.toNat, v3894.toNat, 0]
def k0_off3093 (v3891 : BitVec 32) : Fin 2 → Nat :=
  let v3892 : BitVec 32 := v3891
  let c0_i32_2338 : BitVec 32 := 0#32
  ![v3892.toNat, 0]

def k0_chk769 (i : grid0.Coords) (v3891 : BitVec 32) : Prop :=
  (∀ (k0_h3 : k0_cond3 i = 1#1), 8 ∣ (k0_mult1537 v3891).toNat) ∧
  (∀ (k0_h3 : k0_cond3 i = 1#1), ∀ a, (k0_off3093 v3891) a + S8x128.size a ≤ S131072x128.size a)
theorem k0_mult1537_dvd : ∀ (i : grid0.Coords) (v3891 : BitVec 32) (k0_hw769 : k0_chk769 i v3891), ∀ (k0_h3 : k0_cond3 i = 1#1), 8 ∣ (k0_mult1537 v3891).toNat := fun i v3891 k0_hw769 k0_h3 => k0_hw769.1 k0_h3
theorem k0_off3093_inb : ∀ (i : grid0.Coords) (v3891 : BitVec 32) (k0_hw769 : k0_chk769 i v3891), ∀ (k0_h3 : k0_cond3 i = 1#1), ∀ a, (k0_off3093 v3891) a + S8x128.size a ≤ S131072x128.size a := fun i v3891 k0_hw769 k0_h3 => k0_hw769.2 k0_h3

def k0_off3094 (i : grid0.Coords) : Fin 3 → Nat :=
  let c0_2356 : Index := 0#32
  let c0_2357 : Index := 0#32
  let arg1 : BitVec 32 := BitVec.ofNat 32 (i 1).val
  let c2_i32_2351 : BitVec 32 := 2#32
  let v3925 : BitVec 32 := Scalar.muli arg1 c2_i32_2351
  let c1_i32_2352 : BitVec 32 := 1#32
  let v3926 : BitVec 32 := Scalar.addi v3925 c1_i32_2352
  let c256_i32_2353 : BitVec 32 := 256#32
  let v3927 : BitVec 32 := Scalar.muli v3926 c256_i32_2353
  let c0_i32_2354 : BitVec 32 := 0#32
  let v3928 : BitVec 32 := Scalar.addi v3927 c0_i32_2354
  let v3930 : Index := Scalar.indexCast v3928
  ![0, 0, v3930.toNat]
def k0_mult1539 (v3931 : BitVec 32) : BitVec 32 :=
  v3931

def k0_mult1540 (i : grid0.Coords) : BitVec 32 :=
  let arg1 : BitVec 32 := BitVec.ofNat 32 (i 1).val
  let c2_i32_2351 : BitVec 32 := 2#32
  let v3925 : BitVec 32 := Scalar.muli arg1 c2_i32_2351
  let c1_i32_2352 : BitVec 32 := 1#32
  let v3926 : BitVec 32 := Scalar.addi v3925 c1_i32_2352
  let c256_i32_2353 : BitVec 32 := 256#32
  let v3927 : BitVec 32 := Scalar.muli v3926 c256_i32_2353
  let c0_i32_2354 : BitVec 32 := 0#32
  let v3928 : BitVec 32 := Scalar.addi v3927 c0_i32_2354
  let c8_i32_2358 : BitVec 32 := 8#32
  let v3933 : BitVec 32 := Scalar.muli v3928 c8_i32_2358
  v3933
def k0_off3095 (i : grid0.Coords) : Fin 1 → Nat :=
  let c1_i32_2355 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3929 : BitVec 32 := Scalar.subi c1_i32_2355 v9
  ![v3929.toNat]
def k0_off3096 (i : grid0.Coords) : Fin 3 → Nat :=
  let c1_i32_2355 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3929 : BitVec 32 := Scalar.subi c1_i32_2355 v9
  let arg1 : BitVec 32 := BitVec.ofNat 32 (i 1).val
  let c2_i32_2351 : BitVec 32 := 2#32
  let v3925 : BitVec 32 := Scalar.muli arg1 c2_i32_2351
  let c1_i32_2352 : BitVec 32 := 1#32
  let v3926 : BitVec 32 := Scalar.addi v3925 c1_i32_2352
  let c256_i32_2353 : BitVec 32 := 256#32
  let v3927 : BitVec 32 := Scalar.muli v3926 c256_i32_2353
  let c0_i32_2354 : BitVec 32 := 0#32
  let v3928 : BitVec 32 := Scalar.addi v3927 c0_i32_2354
  let c8_i32_2358 : BitVec 32 := 8#32
  let v3933 : BitVec 32 := Scalar.muli v3928 c8_i32_2358
  let v3934 : BitVec 32 := v3933
  let c0_i32_2359 : BitVec 32 := 0#32
  ![v3929.toNat, v3934.toNat, 0]
def k0_off3097 (v3931 : BitVec 32) : Fin 2 → Nat :=
  let v3932 : BitVec 32 := v3931
  let c0_i32_2360 : BitVec 32 := 0#32
  ![v3932.toNat, 0]

def k0_chk770 (i : grid0.Coords) (v3931 : BitVec 32) : Prop :=
  (∀ (k0_h3 : k0_cond3 i = 1#1), 8 ∣ (k0_mult1539 v3931).toNat) ∧
  (∀ (k0_h3 : k0_cond3 i = 1#1), ∀ a, (k0_off3097 v3931) a + S8x128.size a ≤ S131072x128.size a)
theorem k0_mult1539_dvd : ∀ (i : grid0.Coords) (v3931 : BitVec 32) (k0_hw770 : k0_chk770 i v3931), ∀ (k0_h3 : k0_cond3 i = 1#1), 8 ∣ (k0_mult1539 v3931).toNat := fun i v3931 k0_hw770 k0_h3 => k0_hw770.1 k0_h3
theorem k0_off3097_inb : ∀ (i : grid0.Coords) (v3931 : BitVec 32) (k0_hw770 : k0_chk770 i v3931), ∀ (k0_h3 : k0_cond3 i = 1#1), ∀ a, (k0_off3097 v3931) a + S8x128.size a ≤ S131072x128.size a := fun i v3931 k0_hw770 k0_h3 => k0_hw770.2 k0_h3

def k0_off3098 (i : grid0.Coords) : Fin 3 → Nat :=
  let c0_2366 : Index := 0#32
  let c0_2367 : Index := 0#32
  let arg1 : BitVec 32 := BitVec.ofNat 32 (i 1).val
  let c2_i32_2361 : BitVec 32 := 2#32
  let v3940 : BitVec 32 := Scalar.muli arg1 c2_i32_2361
  let c1_i32_2362 : BitVec 32 := 1#32
  let v3941 : BitVec 32 := Scalar.addi v3940 c1_i32_2362
  let c256_i32_2363 : BitVec 32 := 256#32
  let v3942 : BitVec 32 := Scalar.muli v3941 c256_i32_2363
  let c1_i32_2364 : BitVec 32 := 1#32
  let v3943 : BitVec 32 := Scalar.addi v3942 c1_i32_2364
  let v3945 : Index := Scalar.indexCast v3943
  ![0, 0, v3945.toNat]
def k0_mult1541 (v3946 : BitVec 32) : BitVec 32 :=
  v3946

def k0_mult1542 (i : grid0.Coords) : BitVec 32 :=
  let arg1 : BitVec 32 := BitVec.ofNat 32 (i 1).val
  let c2_i32_2361 : BitVec 32 := 2#32
  let v3940 : BitVec 32 := Scalar.muli arg1 c2_i32_2361
  let c1_i32_2362 : BitVec 32 := 1#32
  let v3941 : BitVec 32 := Scalar.addi v3940 c1_i32_2362
  let c256_i32_2363 : BitVec 32 := 256#32
  let v3942 : BitVec 32 := Scalar.muli v3941 c256_i32_2363
  let c1_i32_2364 : BitVec 32 := 1#32
  let v3943 : BitVec 32 := Scalar.addi v3942 c1_i32_2364
  let c8_i32_2368 : BitVec 32 := 8#32
  let v3948 : BitVec 32 := Scalar.muli v3943 c8_i32_2368
  v3948
def k0_off3099 (i : grid0.Coords) : Fin 1 → Nat :=
  let c1_i32_2365 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3944 : BitVec 32 := Scalar.subi c1_i32_2365 v9
  ![v3944.toNat]
def k0_off3100 (i : grid0.Coords) : Fin 3 → Nat :=
  let c1_i32_2365 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3944 : BitVec 32 := Scalar.subi c1_i32_2365 v9
  let arg1 : BitVec 32 := BitVec.ofNat 32 (i 1).val
  let c2_i32_2361 : BitVec 32 := 2#32
  let v3940 : BitVec 32 := Scalar.muli arg1 c2_i32_2361
  let c1_i32_2362 : BitVec 32 := 1#32
  let v3941 : BitVec 32 := Scalar.addi v3940 c1_i32_2362
  let c256_i32_2363 : BitVec 32 := 256#32
  let v3942 : BitVec 32 := Scalar.muli v3941 c256_i32_2363
  let c1_i32_2364 : BitVec 32 := 1#32
  let v3943 : BitVec 32 := Scalar.addi v3942 c1_i32_2364
  let c8_i32_2368 : BitVec 32 := 8#32
  let v3948 : BitVec 32 := Scalar.muli v3943 c8_i32_2368
  let v3949 : BitVec 32 := v3948
  let c0_i32_2369 : BitVec 32 := 0#32
  ![v3944.toNat, v3949.toNat, 0]
def k0_off3101 (v3946 : BitVec 32) : Fin 2 → Nat :=
  let v3947 : BitVec 32 := v3946
  let c0_i32_2370 : BitVec 32 := 0#32
  ![v3947.toNat, 0]

def k0_chk771 (i : grid0.Coords) (v3946 : BitVec 32) : Prop :=
  (∀ (k0_h3 : k0_cond3 i = 1#1), 8 ∣ (k0_mult1541 v3946).toNat) ∧
  (∀ (k0_h3 : k0_cond3 i = 1#1), ∀ a, (k0_off3101 v3946) a + S8x128.size a ≤ S131072x128.size a)
theorem k0_mult1541_dvd : ∀ (i : grid0.Coords) (v3946 : BitVec 32) (k0_hw771 : k0_chk771 i v3946), ∀ (k0_h3 : k0_cond3 i = 1#1), 8 ∣ (k0_mult1541 v3946).toNat := fun i v3946 k0_hw771 k0_h3 => k0_hw771.1 k0_h3
theorem k0_off3101_inb : ∀ (i : grid0.Coords) (v3946 : BitVec 32) (k0_hw771 : k0_chk771 i v3946), ∀ (k0_h3 : k0_cond3 i = 1#1), ∀ a, (k0_off3101 v3946) a + S8x128.size a ≤ S131072x128.size a := fun i v3946 k0_hw771 k0_h3 => k0_hw771.2 k0_h3

def k0_off3102 (i : grid0.Coords) : Fin 3 → Nat :=
  let c0_2376 : Index := 0#32
  let c0_2377 : Index := 0#32
  let arg1 : BitVec 32 := BitVec.ofNat 32 (i 1).val
  let c2_i32_2371 : BitVec 32 := 2#32
  let v3955 : BitVec 32 := Scalar.muli arg1 c2_i32_2371
  let c1_i32_2372 : BitVec 32 := 1#32
  let v3956 : BitVec 32 := Scalar.addi v3955 c1_i32_2372
  let c256_i32_2373 : BitVec 32 := 256#32
  let v3957 : BitVec 32 := Scalar.muli v3956 c256_i32_2373
  let c2_i32_2374 : BitVec 32 := 2#32
  let v3958 : BitVec 32 := Scalar.addi v3957 c2_i32_2374
  let v3960 : Index := Scalar.indexCast v3958
  ![0, 0, v3960.toNat]
def k0_mult1543 (v3961 : BitVec 32) : BitVec 32 :=
  v3961

def k0_mult1544 (i : grid0.Coords) : BitVec 32 :=
  let arg1 : BitVec 32 := BitVec.ofNat 32 (i 1).val
  let c2_i32_2371 : BitVec 32 := 2#32
  let v3955 : BitVec 32 := Scalar.muli arg1 c2_i32_2371
  let c1_i32_2372 : BitVec 32 := 1#32
  let v3956 : BitVec 32 := Scalar.addi v3955 c1_i32_2372
  let c256_i32_2373 : BitVec 32 := 256#32
  let v3957 : BitVec 32 := Scalar.muli v3956 c256_i32_2373
  let c2_i32_2374 : BitVec 32 := 2#32
  let v3958 : BitVec 32 := Scalar.addi v3957 c2_i32_2374
  let c8_i32_2378 : BitVec 32 := 8#32
  let v3963 : BitVec 32 := Scalar.muli v3958 c8_i32_2378
  v3963
def k0_off3103 (i : grid0.Coords) : Fin 1 → Nat :=
  let c1_i32_2375 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3959 : BitVec 32 := Scalar.subi c1_i32_2375 v9
  ![v3959.toNat]
def k0_off3104 (i : grid0.Coords) : Fin 3 → Nat :=
  let c1_i32_2375 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3959 : BitVec 32 := Scalar.subi c1_i32_2375 v9
  let arg1 : BitVec 32 := BitVec.ofNat 32 (i 1).val
  let c2_i32_2371 : BitVec 32 := 2#32
  let v3955 : BitVec 32 := Scalar.muli arg1 c2_i32_2371
  let c1_i32_2372 : BitVec 32 := 1#32
  let v3956 : BitVec 32 := Scalar.addi v3955 c1_i32_2372
  let c256_i32_2373 : BitVec 32 := 256#32
  let v3957 : BitVec 32 := Scalar.muli v3956 c256_i32_2373
  let c2_i32_2374 : BitVec 32 := 2#32
  let v3958 : BitVec 32 := Scalar.addi v3957 c2_i32_2374
  let c8_i32_2378 : BitVec 32 := 8#32
  let v3963 : BitVec 32 := Scalar.muli v3958 c8_i32_2378
  let v3964 : BitVec 32 := v3963
  let c0_i32_2379 : BitVec 32 := 0#32
  ![v3959.toNat, v3964.toNat, 0]
def k0_off3105 (v3961 : BitVec 32) : Fin 2 → Nat :=
  let v3962 : BitVec 32 := v3961
  let c0_i32_2380 : BitVec 32 := 0#32
  ![v3962.toNat, 0]

def k0_chk772 (i : grid0.Coords) (v3961 : BitVec 32) : Prop :=
  (∀ (k0_h3 : k0_cond3 i = 1#1), 8 ∣ (k0_mult1543 v3961).toNat) ∧
  (∀ (k0_h3 : k0_cond3 i = 1#1), ∀ a, (k0_off3105 v3961) a + S8x128.size a ≤ S131072x128.size a)
theorem k0_mult1543_dvd : ∀ (i : grid0.Coords) (v3961 : BitVec 32) (k0_hw772 : k0_chk772 i v3961), ∀ (k0_h3 : k0_cond3 i = 1#1), 8 ∣ (k0_mult1543 v3961).toNat := fun i v3961 k0_hw772 k0_h3 => k0_hw772.1 k0_h3
theorem k0_off3105_inb : ∀ (i : grid0.Coords) (v3961 : BitVec 32) (k0_hw772 : k0_chk772 i v3961), ∀ (k0_h3 : k0_cond3 i = 1#1), ∀ a, (k0_off3105 v3961) a + S8x128.size a ≤ S131072x128.size a := fun i v3961 k0_hw772 k0_h3 => k0_hw772.2 k0_h3

def k0_off3106 (i : grid0.Coords) : Fin 3 → Nat :=
  let c0_2386 : Index := 0#32
  let c0_2387 : Index := 0#32
  let arg1 : BitVec 32 := BitVec.ofNat 32 (i 1).val
  let c2_i32_2381 : BitVec 32 := 2#32
  let v3970 : BitVec 32 := Scalar.muli arg1 c2_i32_2381
  let c1_i32_2382 : BitVec 32 := 1#32
  let v3971 : BitVec 32 := Scalar.addi v3970 c1_i32_2382
  let c256_i32_2383 : BitVec 32 := 256#32
  let v3972 : BitVec 32 := Scalar.muli v3971 c256_i32_2383
  let c3_i32_2384 : BitVec 32 := 3#32
  let v3973 : BitVec 32 := Scalar.addi v3972 c3_i32_2384
  let v3975 : Index := Scalar.indexCast v3973
  ![0, 0, v3975.toNat]
def k0_mult1545 (v3976 : BitVec 32) : BitVec 32 :=
  v3976

def k0_mult1546 (i : grid0.Coords) : BitVec 32 :=
  let arg1 : BitVec 32 := BitVec.ofNat 32 (i 1).val
  let c2_i32_2381 : BitVec 32 := 2#32
  let v3970 : BitVec 32 := Scalar.muli arg1 c2_i32_2381
  let c1_i32_2382 : BitVec 32 := 1#32
  let v3971 : BitVec 32 := Scalar.addi v3970 c1_i32_2382
  let c256_i32_2383 : BitVec 32 := 256#32
  let v3972 : BitVec 32 := Scalar.muli v3971 c256_i32_2383
  let c3_i32_2384 : BitVec 32 := 3#32
  let v3973 : BitVec 32 := Scalar.addi v3972 c3_i32_2384
  let c8_i32_2388 : BitVec 32 := 8#32
  let v3978 : BitVec 32 := Scalar.muli v3973 c8_i32_2388
  v3978
def k0_off3107 (i : grid0.Coords) : Fin 1 → Nat :=
  let c1_i32_2385 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3974 : BitVec 32 := Scalar.subi c1_i32_2385 v9
  ![v3974.toNat]
def k0_off3108 (i : grid0.Coords) : Fin 3 → Nat :=
  let c1_i32_2385 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3974 : BitVec 32 := Scalar.subi c1_i32_2385 v9
  let arg1 : BitVec 32 := BitVec.ofNat 32 (i 1).val
  let c2_i32_2381 : BitVec 32 := 2#32
  let v3970 : BitVec 32 := Scalar.muli arg1 c2_i32_2381
  let c1_i32_2382 : BitVec 32 := 1#32
  let v3971 : BitVec 32 := Scalar.addi v3970 c1_i32_2382
  let c256_i32_2383 : BitVec 32 := 256#32
  let v3972 : BitVec 32 := Scalar.muli v3971 c256_i32_2383
  let c3_i32_2384 : BitVec 32 := 3#32
  let v3973 : BitVec 32 := Scalar.addi v3972 c3_i32_2384
  let c8_i32_2388 : BitVec 32 := 8#32
  let v3978 : BitVec 32 := Scalar.muli v3973 c8_i32_2388
  let v3979 : BitVec 32 := v3978
  let c0_i32_2389 : BitVec 32 := 0#32
  ![v3974.toNat, v3979.toNat, 0]
def k0_off3109 (v3976 : BitVec 32) : Fin 2 → Nat :=
  let v3977 : BitVec 32 := v3976
  let c0_i32_2390 : BitVec 32 := 0#32
  ![v3977.toNat, 0]

def k0_chk773 (i : grid0.Coords) (v3976 : BitVec 32) : Prop :=
  (∀ (k0_h3 : k0_cond3 i = 1#1), 8 ∣ (k0_mult1545 v3976).toNat) ∧
  (∀ (k0_h3 : k0_cond3 i = 1#1), ∀ a, (k0_off3109 v3976) a + S8x128.size a ≤ S131072x128.size a)
theorem k0_mult1545_dvd : ∀ (i : grid0.Coords) (v3976 : BitVec 32) (k0_hw773 : k0_chk773 i v3976), ∀ (k0_h3 : k0_cond3 i = 1#1), 8 ∣ (k0_mult1545 v3976).toNat := fun i v3976 k0_hw773 k0_h3 => k0_hw773.1 k0_h3
theorem k0_off3109_inb : ∀ (i : grid0.Coords) (v3976 : BitVec 32) (k0_hw773 : k0_chk773 i v3976), ∀ (k0_h3 : k0_cond3 i = 1#1), ∀ a, (k0_off3109 v3976) a + S8x128.size a ≤ S131072x128.size a := fun i v3976 k0_hw773 k0_h3 => k0_hw773.2 k0_h3

def k0_off3110 (i : grid0.Coords) : Fin 3 → Nat :=
  let c0_2396 : Index := 0#32
  let c0_2397 : Index := 0#32
  let arg1 : BitVec 32 := BitVec.ofNat 32 (i 1).val
  let c2_i32_2391 : BitVec 32 := 2#32
  let v3985 : BitVec 32 := Scalar.muli arg1 c2_i32_2391
  let c1_i32_2392 : BitVec 32 := 1#32
  let v3986 : BitVec 32 := Scalar.addi v3985 c1_i32_2392
  let c256_i32_2393 : BitVec 32 := 256#32
  let v3987 : BitVec 32 := Scalar.muli v3986 c256_i32_2393
  let c4_i32_2394 : BitVec 32 := 4#32
  let v3988 : BitVec 32 := Scalar.addi v3987 c4_i32_2394
  let v3990 : Index := Scalar.indexCast v3988
  ![0, 0, v3990.toNat]
def k0_mult1547 (v3991 : BitVec 32) : BitVec 32 :=
  v3991

def k0_mult1548 (i : grid0.Coords) : BitVec 32 :=
  let arg1 : BitVec 32 := BitVec.ofNat 32 (i 1).val
  let c2_i32_2391 : BitVec 32 := 2#32
  let v3985 : BitVec 32 := Scalar.muli arg1 c2_i32_2391
  let c1_i32_2392 : BitVec 32 := 1#32
  let v3986 : BitVec 32 := Scalar.addi v3985 c1_i32_2392
  let c256_i32_2393 : BitVec 32 := 256#32
  let v3987 : BitVec 32 := Scalar.muli v3986 c256_i32_2393
  let c4_i32_2394 : BitVec 32 := 4#32
  let v3988 : BitVec 32 := Scalar.addi v3987 c4_i32_2394
  let c8_i32_2398 : BitVec 32 := 8#32
  let v3993 : BitVec 32 := Scalar.muli v3988 c8_i32_2398
  v3993
def k0_off3111 (i : grid0.Coords) : Fin 1 → Nat :=
  let c1_i32_2395 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3989 : BitVec 32 := Scalar.subi c1_i32_2395 v9
  ![v3989.toNat]
def k0_off3112 (i : grid0.Coords) : Fin 3 → Nat :=
  let c1_i32_2395 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v3989 : BitVec 32 := Scalar.subi c1_i32_2395 v9
  let arg1 : BitVec 32 := BitVec.ofNat 32 (i 1).val
  let c2_i32_2391 : BitVec 32 := 2#32
  let v3985 : BitVec 32 := Scalar.muli arg1 c2_i32_2391
  let c1_i32_2392 : BitVec 32 := 1#32
  let v3986 : BitVec 32 := Scalar.addi v3985 c1_i32_2392
  let c256_i32_2393 : BitVec 32 := 256#32
  let v3987 : BitVec 32 := Scalar.muli v3986 c256_i32_2393
  let c4_i32_2394 : BitVec 32 := 4#32
  let v3988 : BitVec 32 := Scalar.addi v3987 c4_i32_2394
  let c8_i32_2398 : BitVec 32 := 8#32
  let v3993 : BitVec 32 := Scalar.muli v3988 c8_i32_2398
  let v3994 : BitVec 32 := v3993
  let c0_i32_2399 : BitVec 32 := 0#32
  ![v3989.toNat, v3994.toNat, 0]
def k0_off3113 (v3991 : BitVec 32) : Fin 2 → Nat :=
  let v3992 : BitVec 32 := v3991
  let c0_i32_2400 : BitVec 32 := 0#32
  ![v3992.toNat, 0]

def k0_chk774 (i : grid0.Coords) (v3991 : BitVec 32) : Prop :=
  (∀ (k0_h3 : k0_cond3 i = 1#1), 8 ∣ (k0_mult1547 v3991).toNat) ∧
  (∀ (k0_h3 : k0_cond3 i = 1#1), ∀ a, (k0_off3113 v3991) a + S8x128.size a ≤ S131072x128.size a)
theorem k0_mult1547_dvd : ∀ (i : grid0.Coords) (v3991 : BitVec 32) (k0_hw774 : k0_chk774 i v3991), ∀ (k0_h3 : k0_cond3 i = 1#1), 8 ∣ (k0_mult1547 v3991).toNat := fun i v3991 k0_hw774 k0_h3 => k0_hw774.1 k0_h3
theorem k0_off3113_inb : ∀ (i : grid0.Coords) (v3991 : BitVec 32) (k0_hw774 : k0_chk774 i v3991), ∀ (k0_h3 : k0_cond3 i = 1#1), ∀ a, (k0_off3113 v3991) a + S8x128.size a ≤ S131072x128.size a := fun i v3991 k0_hw774 k0_h3 => k0_hw774.2 k0_h3

def k0_off3114 (i : grid0.Coords) : Fin 3 → Nat :=
  let c0_2406 : Index := 0#32
  let c0_2407 : Index := 0#32
  let arg1 : BitVec 32 := BitVec.ofNat 32 (i 1).val
  let c2_i32_2401 : BitVec 32 := 2#32
  let v4000 : BitVec 32 := Scalar.muli arg1 c2_i32_2401
  let c1_i32_2402 : BitVec 32 := 1#32
  let v4001 : BitVec 32 := Scalar.addi v4000 c1_i32_2402
  let c256_i32_2403 : BitVec 32 := 256#32
  let v4002 : BitVec 32 := Scalar.muli v4001 c256_i32_2403
  let c5_i32_2404 : BitVec 32 := 5#32
  let v4003 : BitVec 32 := Scalar.addi v4002 c5_i32_2404
  let v4005 : Index := Scalar.indexCast v4003
  ![0, 0, v4005.toNat]
def k0_mult1549 (v4006 : BitVec 32) : BitVec 32 :=
  v4006

def k0_mult1550 (i : grid0.Coords) : BitVec 32 :=
  let arg1 : BitVec 32 := BitVec.ofNat 32 (i 1).val
  let c2_i32_2401 : BitVec 32 := 2#32
  let v4000 : BitVec 32 := Scalar.muli arg1 c2_i32_2401
  let c1_i32_2402 : BitVec 32 := 1#32
  let v4001 : BitVec 32 := Scalar.addi v4000 c1_i32_2402
  let c256_i32_2403 : BitVec 32 := 256#32
  let v4002 : BitVec 32 := Scalar.muli v4001 c256_i32_2403
  let c5_i32_2404 : BitVec 32 := 5#32
  let v4003 : BitVec 32 := Scalar.addi v4002 c5_i32_2404
  let c8_i32_2408 : BitVec 32 := 8#32
  let v4008 : BitVec 32 := Scalar.muli v4003 c8_i32_2408
  v4008
def k0_off3115 (i : grid0.Coords) : Fin 1 → Nat :=
  let c1_i32_2405 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4004 : BitVec 32 := Scalar.subi c1_i32_2405 v9
  ![v4004.toNat]
def k0_off3116 (i : grid0.Coords) : Fin 3 → Nat :=
  let c1_i32_2405 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4004 : BitVec 32 := Scalar.subi c1_i32_2405 v9
  let arg1 : BitVec 32 := BitVec.ofNat 32 (i 1).val
  let c2_i32_2401 : BitVec 32 := 2#32
  let v4000 : BitVec 32 := Scalar.muli arg1 c2_i32_2401
  let c1_i32_2402 : BitVec 32 := 1#32
  let v4001 : BitVec 32 := Scalar.addi v4000 c1_i32_2402
  let c256_i32_2403 : BitVec 32 := 256#32
  let v4002 : BitVec 32 := Scalar.muli v4001 c256_i32_2403
  let c5_i32_2404 : BitVec 32 := 5#32
  let v4003 : BitVec 32 := Scalar.addi v4002 c5_i32_2404
  let c8_i32_2408 : BitVec 32 := 8#32
  let v4008 : BitVec 32 := Scalar.muli v4003 c8_i32_2408
  let v4009 : BitVec 32 := v4008
  let c0_i32_2409 : BitVec 32 := 0#32
  ![v4004.toNat, v4009.toNat, 0]
def k0_off3117 (v4006 : BitVec 32) : Fin 2 → Nat :=
  let v4007 : BitVec 32 := v4006
  let c0_i32_2410 : BitVec 32 := 0#32
  ![v4007.toNat, 0]

def k0_chk775 (i : grid0.Coords) (v4006 : BitVec 32) : Prop :=
  (∀ (k0_h3 : k0_cond3 i = 1#1), 8 ∣ (k0_mult1549 v4006).toNat) ∧
  (∀ (k0_h3 : k0_cond3 i = 1#1), ∀ a, (k0_off3117 v4006) a + S8x128.size a ≤ S131072x128.size a)
theorem k0_mult1549_dvd : ∀ (i : grid0.Coords) (v4006 : BitVec 32) (k0_hw775 : k0_chk775 i v4006), ∀ (k0_h3 : k0_cond3 i = 1#1), 8 ∣ (k0_mult1549 v4006).toNat := fun i v4006 k0_hw775 k0_h3 => k0_hw775.1 k0_h3
theorem k0_off3117_inb : ∀ (i : grid0.Coords) (v4006 : BitVec 32) (k0_hw775 : k0_chk775 i v4006), ∀ (k0_h3 : k0_cond3 i = 1#1), ∀ a, (k0_off3117 v4006) a + S8x128.size a ≤ S131072x128.size a := fun i v4006 k0_hw775 k0_h3 => k0_hw775.2 k0_h3

def k0_off3118 (i : grid0.Coords) : Fin 3 → Nat :=
  let c0_2416 : Index := 0#32
  let c0_2417 : Index := 0#32
  let arg1 : BitVec 32 := BitVec.ofNat 32 (i 1).val
  let c2_i32_2411 : BitVec 32 := 2#32
  let v4015 : BitVec 32 := Scalar.muli arg1 c2_i32_2411
  let c1_i32_2412 : BitVec 32 := 1#32
  let v4016 : BitVec 32 := Scalar.addi v4015 c1_i32_2412
  let c256_i32_2413 : BitVec 32 := 256#32
  let v4017 : BitVec 32 := Scalar.muli v4016 c256_i32_2413
  let c6_i32_2414 : BitVec 32 := 6#32
  let v4018 : BitVec 32 := Scalar.addi v4017 c6_i32_2414
  let v4020 : Index := Scalar.indexCast v4018
  ![0, 0, v4020.toNat]
def k0_mult1551 (v4021 : BitVec 32) : BitVec 32 :=
  v4021

def k0_mult1552 (i : grid0.Coords) : BitVec 32 :=
  let arg1 : BitVec 32 := BitVec.ofNat 32 (i 1).val
  let c2_i32_2411 : BitVec 32 := 2#32
  let v4015 : BitVec 32 := Scalar.muli arg1 c2_i32_2411
  let c1_i32_2412 : BitVec 32 := 1#32
  let v4016 : BitVec 32 := Scalar.addi v4015 c1_i32_2412
  let c256_i32_2413 : BitVec 32 := 256#32
  let v4017 : BitVec 32 := Scalar.muli v4016 c256_i32_2413
  let c6_i32_2414 : BitVec 32 := 6#32
  let v4018 : BitVec 32 := Scalar.addi v4017 c6_i32_2414
  let c8_i32_2418 : BitVec 32 := 8#32
  let v4023 : BitVec 32 := Scalar.muli v4018 c8_i32_2418
  v4023
def k0_off3119 (i : grid0.Coords) : Fin 1 → Nat :=
  let c1_i32_2415 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4019 : BitVec 32 := Scalar.subi c1_i32_2415 v9
  ![v4019.toNat]
def k0_off3120 (i : grid0.Coords) : Fin 3 → Nat :=
  let c1_i32_2415 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4019 : BitVec 32 := Scalar.subi c1_i32_2415 v9
  let arg1 : BitVec 32 := BitVec.ofNat 32 (i 1).val
  let c2_i32_2411 : BitVec 32 := 2#32
  let v4015 : BitVec 32 := Scalar.muli arg1 c2_i32_2411
  let c1_i32_2412 : BitVec 32 := 1#32
  let v4016 : BitVec 32 := Scalar.addi v4015 c1_i32_2412
  let c256_i32_2413 : BitVec 32 := 256#32
  let v4017 : BitVec 32 := Scalar.muli v4016 c256_i32_2413
  let c6_i32_2414 : BitVec 32 := 6#32
  let v4018 : BitVec 32 := Scalar.addi v4017 c6_i32_2414
  let c8_i32_2418 : BitVec 32 := 8#32
  let v4023 : BitVec 32 := Scalar.muli v4018 c8_i32_2418
  let v4024 : BitVec 32 := v4023
  let c0_i32_2419 : BitVec 32 := 0#32
  ![v4019.toNat, v4024.toNat, 0]
def k0_off3121 (v4021 : BitVec 32) : Fin 2 → Nat :=
  let v4022 : BitVec 32 := v4021
  let c0_i32_2420 : BitVec 32 := 0#32
  ![v4022.toNat, 0]

def k0_chk776 (i : grid0.Coords) (v4021 : BitVec 32) : Prop :=
  (∀ (k0_h3 : k0_cond3 i = 1#1), 8 ∣ (k0_mult1551 v4021).toNat) ∧
  (∀ (k0_h3 : k0_cond3 i = 1#1), ∀ a, (k0_off3121 v4021) a + S8x128.size a ≤ S131072x128.size a)
theorem k0_mult1551_dvd : ∀ (i : grid0.Coords) (v4021 : BitVec 32) (k0_hw776 : k0_chk776 i v4021), ∀ (k0_h3 : k0_cond3 i = 1#1), 8 ∣ (k0_mult1551 v4021).toNat := fun i v4021 k0_hw776 k0_h3 => k0_hw776.1 k0_h3
theorem k0_off3121_inb : ∀ (i : grid0.Coords) (v4021 : BitVec 32) (k0_hw776 : k0_chk776 i v4021), ∀ (k0_h3 : k0_cond3 i = 1#1), ∀ a, (k0_off3121 v4021) a + S8x128.size a ≤ S131072x128.size a := fun i v4021 k0_hw776 k0_h3 => k0_hw776.2 k0_h3

def k0_off3122 (i : grid0.Coords) : Fin 3 → Nat :=
  let c0_2426 : Index := 0#32
  let c0_2427 : Index := 0#32
  let arg1 : BitVec 32 := BitVec.ofNat 32 (i 1).val
  let c2_i32_2421 : BitVec 32 := 2#32
  let v4030 : BitVec 32 := Scalar.muli arg1 c2_i32_2421
  let c1_i32_2422 : BitVec 32 := 1#32
  let v4031 : BitVec 32 := Scalar.addi v4030 c1_i32_2422
  let c256_i32_2423 : BitVec 32 := 256#32
  let v4032 : BitVec 32 := Scalar.muli v4031 c256_i32_2423
  let c7_i32_2424 : BitVec 32 := 7#32
  let v4033 : BitVec 32 := Scalar.addi v4032 c7_i32_2424
  let v4035 : Index := Scalar.indexCast v4033
  ![0, 0, v4035.toNat]
def k0_mult1553 (v4036 : BitVec 32) : BitVec 32 :=
  v4036

def k0_mult1554 (i : grid0.Coords) : BitVec 32 :=
  let arg1 : BitVec 32 := BitVec.ofNat 32 (i 1).val
  let c2_i32_2421 : BitVec 32 := 2#32
  let v4030 : BitVec 32 := Scalar.muli arg1 c2_i32_2421
  let c1_i32_2422 : BitVec 32 := 1#32
  let v4031 : BitVec 32 := Scalar.addi v4030 c1_i32_2422
  let c256_i32_2423 : BitVec 32 := 256#32
  let v4032 : BitVec 32 := Scalar.muli v4031 c256_i32_2423
  let c7_i32_2424 : BitVec 32 := 7#32
  let v4033 : BitVec 32 := Scalar.addi v4032 c7_i32_2424
  let c8_i32_2428 : BitVec 32 := 8#32
  let v4038 : BitVec 32 := Scalar.muli v4033 c8_i32_2428
  v4038
def k0_off3123 (i : grid0.Coords) : Fin 1 → Nat :=
  let c1_i32_2425 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4034 : BitVec 32 := Scalar.subi c1_i32_2425 v9
  ![v4034.toNat]
def k0_off3124 (i : grid0.Coords) : Fin 3 → Nat :=
  let c1_i32_2425 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4034 : BitVec 32 := Scalar.subi c1_i32_2425 v9
  let arg1 : BitVec 32 := BitVec.ofNat 32 (i 1).val
  let c2_i32_2421 : BitVec 32 := 2#32
  let v4030 : BitVec 32 := Scalar.muli arg1 c2_i32_2421
  let c1_i32_2422 : BitVec 32 := 1#32
  let v4031 : BitVec 32 := Scalar.addi v4030 c1_i32_2422
  let c256_i32_2423 : BitVec 32 := 256#32
  let v4032 : BitVec 32 := Scalar.muli v4031 c256_i32_2423
  let c7_i32_2424 : BitVec 32 := 7#32
  let v4033 : BitVec 32 := Scalar.addi v4032 c7_i32_2424
  let c8_i32_2428 : BitVec 32 := 8#32
  let v4038 : BitVec 32 := Scalar.muli v4033 c8_i32_2428
  let v4039 : BitVec 32 := v4038
  let c0_i32_2429 : BitVec 32 := 0#32
  ![v4034.toNat, v4039.toNat, 0]
def k0_off3125 (v4036 : BitVec 32) : Fin 2 → Nat :=
  let v4037 : BitVec 32 := v4036
  let c0_i32_2430 : BitVec 32 := 0#32
  ![v4037.toNat, 0]

def k0_chk777 (i : grid0.Coords) (v4036 : BitVec 32) : Prop :=
  (∀ (k0_h3 : k0_cond3 i = 1#1), 8 ∣ (k0_mult1553 v4036).toNat) ∧
  (∀ (k0_h3 : k0_cond3 i = 1#1), ∀ a, (k0_off3125 v4036) a + S8x128.size a ≤ S131072x128.size a)
theorem k0_mult1553_dvd : ∀ (i : grid0.Coords) (v4036 : BitVec 32) (k0_hw777 : k0_chk777 i v4036), ∀ (k0_h3 : k0_cond3 i = 1#1), 8 ∣ (k0_mult1553 v4036).toNat := fun i v4036 k0_hw777 k0_h3 => k0_hw777.1 k0_h3
theorem k0_off3125_inb : ∀ (i : grid0.Coords) (v4036 : BitVec 32) (k0_hw777 : k0_chk777 i v4036), ∀ (k0_h3 : k0_cond3 i = 1#1), ∀ a, (k0_off3125 v4036) a + S8x128.size a ≤ S131072x128.size a := fun i v4036 k0_hw777 k0_h3 => k0_hw777.2 k0_h3

def k0_off3126 (i : grid0.Coords) : Fin 3 → Nat :=
  let c0_2436 : Index := 0#32
  let c0_2437 : Index := 0#32
  let arg1 : BitVec 32 := BitVec.ofNat 32 (i 1).val
  let c2_i32_2431 : BitVec 32 := 2#32
  let v4045 : BitVec 32 := Scalar.muli arg1 c2_i32_2431
  let c1_i32_2432 : BitVec 32 := 1#32
  let v4046 : BitVec 32 := Scalar.addi v4045 c1_i32_2432
  let c256_i32_2433 : BitVec 32 := 256#32
  let v4047 : BitVec 32 := Scalar.muli v4046 c256_i32_2433
  let c8_i32_2434 : BitVec 32 := 8#32
  let v4048 : BitVec 32 := Scalar.addi v4047 c8_i32_2434
  let v4050 : Index := Scalar.indexCast v4048
  ![0, 0, v4050.toNat]
def k0_mult1555 (v4051 : BitVec 32) : BitVec 32 :=
  v4051

def k0_mult1556 (i : grid0.Coords) : BitVec 32 :=
  let arg1 : BitVec 32 := BitVec.ofNat 32 (i 1).val
  let c2_i32_2431 : BitVec 32 := 2#32
  let v4045 : BitVec 32 := Scalar.muli arg1 c2_i32_2431
  let c1_i32_2432 : BitVec 32 := 1#32
  let v4046 : BitVec 32 := Scalar.addi v4045 c1_i32_2432
  let c256_i32_2433 : BitVec 32 := 256#32
  let v4047 : BitVec 32 := Scalar.muli v4046 c256_i32_2433
  let c8_i32_2434 : BitVec 32 := 8#32
  let v4048 : BitVec 32 := Scalar.addi v4047 c8_i32_2434
  let c8_i32_2438 : BitVec 32 := 8#32
  let v4053 : BitVec 32 := Scalar.muli v4048 c8_i32_2438
  v4053
def k0_off3127 (i : grid0.Coords) : Fin 1 → Nat :=
  let c1_i32_2435 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4049 : BitVec 32 := Scalar.subi c1_i32_2435 v9
  ![v4049.toNat]
def k0_off3128 (i : grid0.Coords) : Fin 3 → Nat :=
  let c1_i32_2435 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4049 : BitVec 32 := Scalar.subi c1_i32_2435 v9
  let arg1 : BitVec 32 := BitVec.ofNat 32 (i 1).val
  let c2_i32_2431 : BitVec 32 := 2#32
  let v4045 : BitVec 32 := Scalar.muli arg1 c2_i32_2431
  let c1_i32_2432 : BitVec 32 := 1#32
  let v4046 : BitVec 32 := Scalar.addi v4045 c1_i32_2432
  let c256_i32_2433 : BitVec 32 := 256#32
  let v4047 : BitVec 32 := Scalar.muli v4046 c256_i32_2433
  let c8_i32_2434 : BitVec 32 := 8#32
  let v4048 : BitVec 32 := Scalar.addi v4047 c8_i32_2434
  let c8_i32_2438 : BitVec 32 := 8#32
  let v4053 : BitVec 32 := Scalar.muli v4048 c8_i32_2438
  let v4054 : BitVec 32 := v4053
  let c0_i32_2439 : BitVec 32 := 0#32
  ![v4049.toNat, v4054.toNat, 0]
def k0_off3129 (v4051 : BitVec 32) : Fin 2 → Nat :=
  let v4052 : BitVec 32 := v4051
  let c0_i32_2440 : BitVec 32 := 0#32
  ![v4052.toNat, 0]

def k0_chk778 (i : grid0.Coords) (v4051 : BitVec 32) : Prop :=
  (∀ (k0_h3 : k0_cond3 i = 1#1), 8 ∣ (k0_mult1555 v4051).toNat) ∧
  (∀ (k0_h3 : k0_cond3 i = 1#1), ∀ a, (k0_off3129 v4051) a + S8x128.size a ≤ S131072x128.size a)
theorem k0_mult1555_dvd : ∀ (i : grid0.Coords) (v4051 : BitVec 32) (k0_hw778 : k0_chk778 i v4051), ∀ (k0_h3 : k0_cond3 i = 1#1), 8 ∣ (k0_mult1555 v4051).toNat := fun i v4051 k0_hw778 k0_h3 => k0_hw778.1 k0_h3
theorem k0_off3129_inb : ∀ (i : grid0.Coords) (v4051 : BitVec 32) (k0_hw778 : k0_chk778 i v4051), ∀ (k0_h3 : k0_cond3 i = 1#1), ∀ a, (k0_off3129 v4051) a + S8x128.size a ≤ S131072x128.size a := fun i v4051 k0_hw778 k0_h3 => k0_hw778.2 k0_h3

def k0_off3130 (i : grid0.Coords) : Fin 3 → Nat :=
  let c0_2446 : Index := 0#32
  let c0_2447 : Index := 0#32
  let arg1 : BitVec 32 := BitVec.ofNat 32 (i 1).val
  let c2_i32_2441 : BitVec 32 := 2#32
  let v4060 : BitVec 32 := Scalar.muli arg1 c2_i32_2441
  let c1_i32_2442 : BitVec 32 := 1#32
  let v4061 : BitVec 32 := Scalar.addi v4060 c1_i32_2442
  let c256_i32_2443 : BitVec 32 := 256#32
  let v4062 : BitVec 32 := Scalar.muli v4061 c256_i32_2443
  let c9_i32_2444 : BitVec 32 := 9#32
  let v4063 : BitVec 32 := Scalar.addi v4062 c9_i32_2444
  let v4065 : Index := Scalar.indexCast v4063
  ![0, 0, v4065.toNat]
def k0_mult1557 (v4066 : BitVec 32) : BitVec 32 :=
  v4066

def k0_mult1558 (i : grid0.Coords) : BitVec 32 :=
  let arg1 : BitVec 32 := BitVec.ofNat 32 (i 1).val
  let c2_i32_2441 : BitVec 32 := 2#32
  let v4060 : BitVec 32 := Scalar.muli arg1 c2_i32_2441
  let c1_i32_2442 : BitVec 32 := 1#32
  let v4061 : BitVec 32 := Scalar.addi v4060 c1_i32_2442
  let c256_i32_2443 : BitVec 32 := 256#32
  let v4062 : BitVec 32 := Scalar.muli v4061 c256_i32_2443
  let c9_i32_2444 : BitVec 32 := 9#32
  let v4063 : BitVec 32 := Scalar.addi v4062 c9_i32_2444
  let c8_i32_2448 : BitVec 32 := 8#32
  let v4068 : BitVec 32 := Scalar.muli v4063 c8_i32_2448
  v4068
def k0_off3131 (i : grid0.Coords) : Fin 1 → Nat :=
  let c1_i32_2445 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4064 : BitVec 32 := Scalar.subi c1_i32_2445 v9
  ![v4064.toNat]
def k0_off3132 (i : grid0.Coords) : Fin 3 → Nat :=
  let c1_i32_2445 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4064 : BitVec 32 := Scalar.subi c1_i32_2445 v9
  let arg1 : BitVec 32 := BitVec.ofNat 32 (i 1).val
  let c2_i32_2441 : BitVec 32 := 2#32
  let v4060 : BitVec 32 := Scalar.muli arg1 c2_i32_2441
  let c1_i32_2442 : BitVec 32 := 1#32
  let v4061 : BitVec 32 := Scalar.addi v4060 c1_i32_2442
  let c256_i32_2443 : BitVec 32 := 256#32
  let v4062 : BitVec 32 := Scalar.muli v4061 c256_i32_2443
  let c9_i32_2444 : BitVec 32 := 9#32
  let v4063 : BitVec 32 := Scalar.addi v4062 c9_i32_2444
  let c8_i32_2448 : BitVec 32 := 8#32
  let v4068 : BitVec 32 := Scalar.muli v4063 c8_i32_2448
  let v4069 : BitVec 32 := v4068
  let c0_i32_2449 : BitVec 32 := 0#32
  ![v4064.toNat, v4069.toNat, 0]
def k0_off3133 (v4066 : BitVec 32) : Fin 2 → Nat :=
  let v4067 : BitVec 32 := v4066
  let c0_i32_2450 : BitVec 32 := 0#32
  ![v4067.toNat, 0]

def k0_chk779 (i : grid0.Coords) (v4066 : BitVec 32) : Prop :=
  (∀ (k0_h3 : k0_cond3 i = 1#1), 8 ∣ (k0_mult1557 v4066).toNat) ∧
  (∀ (k0_h3 : k0_cond3 i = 1#1), ∀ a, (k0_off3133 v4066) a + S8x128.size a ≤ S131072x128.size a)
theorem k0_mult1557_dvd : ∀ (i : grid0.Coords) (v4066 : BitVec 32) (k0_hw779 : k0_chk779 i v4066), ∀ (k0_h3 : k0_cond3 i = 1#1), 8 ∣ (k0_mult1557 v4066).toNat := fun i v4066 k0_hw779 k0_h3 => k0_hw779.1 k0_h3
theorem k0_off3133_inb : ∀ (i : grid0.Coords) (v4066 : BitVec 32) (k0_hw779 : k0_chk779 i v4066), ∀ (k0_h3 : k0_cond3 i = 1#1), ∀ a, (k0_off3133 v4066) a + S8x128.size a ≤ S131072x128.size a := fun i v4066 k0_hw779 k0_h3 => k0_hw779.2 k0_h3

def k0_off3134 (i : grid0.Coords) : Fin 3 → Nat :=
  let c0_2456 : Index := 0#32
  let c0_2457 : Index := 0#32
  let arg1 : BitVec 32 := BitVec.ofNat 32 (i 1).val
  let c2_i32_2451 : BitVec 32 := 2#32
  let v4075 : BitVec 32 := Scalar.muli arg1 c2_i32_2451
  let c1_i32_2452 : BitVec 32 := 1#32
  let v4076 : BitVec 32 := Scalar.addi v4075 c1_i32_2452
  let c256_i32_2453 : BitVec 32 := 256#32
  let v4077 : BitVec 32 := Scalar.muli v4076 c256_i32_2453
  let c10_i32_2454 : BitVec 32 := 10#32
  let v4078 : BitVec 32 := Scalar.addi v4077 c10_i32_2454
  let v4080 : Index := Scalar.indexCast v4078
  ![0, 0, v4080.toNat]
def k0_mult1559 (v4081 : BitVec 32) : BitVec 32 :=
  v4081

def k0_mult1560 (i : grid0.Coords) : BitVec 32 :=
  let arg1 : BitVec 32 := BitVec.ofNat 32 (i 1).val
  let c2_i32_2451 : BitVec 32 := 2#32
  let v4075 : BitVec 32 := Scalar.muli arg1 c2_i32_2451
  let c1_i32_2452 : BitVec 32 := 1#32
  let v4076 : BitVec 32 := Scalar.addi v4075 c1_i32_2452
  let c256_i32_2453 : BitVec 32 := 256#32
  let v4077 : BitVec 32 := Scalar.muli v4076 c256_i32_2453
  let c10_i32_2454 : BitVec 32 := 10#32
  let v4078 : BitVec 32 := Scalar.addi v4077 c10_i32_2454
  let c8_i32_2458 : BitVec 32 := 8#32
  let v4083 : BitVec 32 := Scalar.muli v4078 c8_i32_2458
  v4083
def k0_off3135 (i : grid0.Coords) : Fin 1 → Nat :=
  let c1_i32_2455 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4079 : BitVec 32 := Scalar.subi c1_i32_2455 v9
  ![v4079.toNat]
def k0_off3136 (i : grid0.Coords) : Fin 3 → Nat :=
  let c1_i32_2455 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4079 : BitVec 32 := Scalar.subi c1_i32_2455 v9
  let arg1 : BitVec 32 := BitVec.ofNat 32 (i 1).val
  let c2_i32_2451 : BitVec 32 := 2#32
  let v4075 : BitVec 32 := Scalar.muli arg1 c2_i32_2451
  let c1_i32_2452 : BitVec 32 := 1#32
  let v4076 : BitVec 32 := Scalar.addi v4075 c1_i32_2452
  let c256_i32_2453 : BitVec 32 := 256#32
  let v4077 : BitVec 32 := Scalar.muli v4076 c256_i32_2453
  let c10_i32_2454 : BitVec 32 := 10#32
  let v4078 : BitVec 32 := Scalar.addi v4077 c10_i32_2454
  let c8_i32_2458 : BitVec 32 := 8#32
  let v4083 : BitVec 32 := Scalar.muli v4078 c8_i32_2458
  let v4084 : BitVec 32 := v4083
  let c0_i32_2459 : BitVec 32 := 0#32
  ![v4079.toNat, v4084.toNat, 0]
def k0_off3137 (v4081 : BitVec 32) : Fin 2 → Nat :=
  let v4082 : BitVec 32 := v4081
  let c0_i32_2460 : BitVec 32 := 0#32
  ![v4082.toNat, 0]

def k0_chk780 (i : grid0.Coords) (v4081 : BitVec 32) : Prop :=
  (∀ (k0_h3 : k0_cond3 i = 1#1), 8 ∣ (k0_mult1559 v4081).toNat) ∧
  (∀ (k0_h3 : k0_cond3 i = 1#1), ∀ a, (k0_off3137 v4081) a + S8x128.size a ≤ S131072x128.size a)
theorem k0_mult1559_dvd : ∀ (i : grid0.Coords) (v4081 : BitVec 32) (k0_hw780 : k0_chk780 i v4081), ∀ (k0_h3 : k0_cond3 i = 1#1), 8 ∣ (k0_mult1559 v4081).toNat := fun i v4081 k0_hw780 k0_h3 => k0_hw780.1 k0_h3
theorem k0_off3137_inb : ∀ (i : grid0.Coords) (v4081 : BitVec 32) (k0_hw780 : k0_chk780 i v4081), ∀ (k0_h3 : k0_cond3 i = 1#1), ∀ a, (k0_off3137 v4081) a + S8x128.size a ≤ S131072x128.size a := fun i v4081 k0_hw780 k0_h3 => k0_hw780.2 k0_h3

def k0_off3138 (i : grid0.Coords) : Fin 3 → Nat :=
  let c0_2466 : Index := 0#32
  let c0_2467 : Index := 0#32
  let arg1 : BitVec 32 := BitVec.ofNat 32 (i 1).val
  let c2_i32_2461 : BitVec 32 := 2#32
  let v4090 : BitVec 32 := Scalar.muli arg1 c2_i32_2461
  let c1_i32_2462 : BitVec 32 := 1#32
  let v4091 : BitVec 32 := Scalar.addi v4090 c1_i32_2462
  let c256_i32_2463 : BitVec 32 := 256#32
  let v4092 : BitVec 32 := Scalar.muli v4091 c256_i32_2463
  let c11_i32_2464 : BitVec 32 := 11#32
  let v4093 : BitVec 32 := Scalar.addi v4092 c11_i32_2464
  let v4095 : Index := Scalar.indexCast v4093
  ![0, 0, v4095.toNat]
def k0_mult1561 (v4096 : BitVec 32) : BitVec 32 :=
  v4096

def k0_mult1562 (i : grid0.Coords) : BitVec 32 :=
  let arg1 : BitVec 32 := BitVec.ofNat 32 (i 1).val
  let c2_i32_2461 : BitVec 32 := 2#32
  let v4090 : BitVec 32 := Scalar.muli arg1 c2_i32_2461
  let c1_i32_2462 : BitVec 32 := 1#32
  let v4091 : BitVec 32 := Scalar.addi v4090 c1_i32_2462
  let c256_i32_2463 : BitVec 32 := 256#32
  let v4092 : BitVec 32 := Scalar.muli v4091 c256_i32_2463
  let c11_i32_2464 : BitVec 32 := 11#32
  let v4093 : BitVec 32 := Scalar.addi v4092 c11_i32_2464
  let c8_i32_2468 : BitVec 32 := 8#32
  let v4098 : BitVec 32 := Scalar.muli v4093 c8_i32_2468
  v4098
def k0_off3139 (i : grid0.Coords) : Fin 1 → Nat :=
  let c1_i32_2465 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4094 : BitVec 32 := Scalar.subi c1_i32_2465 v9
  ![v4094.toNat]
def k0_off3140 (i : grid0.Coords) : Fin 3 → Nat :=
  let c1_i32_2465 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4094 : BitVec 32 := Scalar.subi c1_i32_2465 v9
  let arg1 : BitVec 32 := BitVec.ofNat 32 (i 1).val
  let c2_i32_2461 : BitVec 32 := 2#32
  let v4090 : BitVec 32 := Scalar.muli arg1 c2_i32_2461
  let c1_i32_2462 : BitVec 32 := 1#32
  let v4091 : BitVec 32 := Scalar.addi v4090 c1_i32_2462
  let c256_i32_2463 : BitVec 32 := 256#32
  let v4092 : BitVec 32 := Scalar.muli v4091 c256_i32_2463
  let c11_i32_2464 : BitVec 32 := 11#32
  let v4093 : BitVec 32 := Scalar.addi v4092 c11_i32_2464
  let c8_i32_2468 : BitVec 32 := 8#32
  let v4098 : BitVec 32 := Scalar.muli v4093 c8_i32_2468
  let v4099 : BitVec 32 := v4098
  let c0_i32_2469 : BitVec 32 := 0#32
  ![v4094.toNat, v4099.toNat, 0]
def k0_off3141 (v4096 : BitVec 32) : Fin 2 → Nat :=
  let v4097 : BitVec 32 := v4096
  let c0_i32_2470 : BitVec 32 := 0#32
  ![v4097.toNat, 0]

def k0_chk781 (i : grid0.Coords) (v4096 : BitVec 32) : Prop :=
  (∀ (k0_h3 : k0_cond3 i = 1#1), 8 ∣ (k0_mult1561 v4096).toNat) ∧
  (∀ (k0_h3 : k0_cond3 i = 1#1), ∀ a, (k0_off3141 v4096) a + S8x128.size a ≤ S131072x128.size a)
theorem k0_mult1561_dvd : ∀ (i : grid0.Coords) (v4096 : BitVec 32) (k0_hw781 : k0_chk781 i v4096), ∀ (k0_h3 : k0_cond3 i = 1#1), 8 ∣ (k0_mult1561 v4096).toNat := fun i v4096 k0_hw781 k0_h3 => k0_hw781.1 k0_h3
theorem k0_off3141_inb : ∀ (i : grid0.Coords) (v4096 : BitVec 32) (k0_hw781 : k0_chk781 i v4096), ∀ (k0_h3 : k0_cond3 i = 1#1), ∀ a, (k0_off3141 v4096) a + S8x128.size a ≤ S131072x128.size a := fun i v4096 k0_hw781 k0_h3 => k0_hw781.2 k0_h3

def k0_off3142 (i : grid0.Coords) : Fin 3 → Nat :=
  let c0_2476 : Index := 0#32
  let c0_2477 : Index := 0#32
  let arg1 : BitVec 32 := BitVec.ofNat 32 (i 1).val
  let c2_i32_2471 : BitVec 32 := 2#32
  let v4105 : BitVec 32 := Scalar.muli arg1 c2_i32_2471
  let c1_i32_2472 : BitVec 32 := 1#32
  let v4106 : BitVec 32 := Scalar.addi v4105 c1_i32_2472
  let c256_i32_2473 : BitVec 32 := 256#32
  let v4107 : BitVec 32 := Scalar.muli v4106 c256_i32_2473
  let c12_i32_2474 : BitVec 32 := 12#32
  let v4108 : BitVec 32 := Scalar.addi v4107 c12_i32_2474
  let v4110 : Index := Scalar.indexCast v4108
  ![0, 0, v4110.toNat]
def k0_mult1563 (v4111 : BitVec 32) : BitVec 32 :=
  v4111

def k0_mult1564 (i : grid0.Coords) : BitVec 32 :=
  let arg1 : BitVec 32 := BitVec.ofNat 32 (i 1).val
  let c2_i32_2471 : BitVec 32 := 2#32
  let v4105 : BitVec 32 := Scalar.muli arg1 c2_i32_2471
  let c1_i32_2472 : BitVec 32 := 1#32
  let v4106 : BitVec 32 := Scalar.addi v4105 c1_i32_2472
  let c256_i32_2473 : BitVec 32 := 256#32
  let v4107 : BitVec 32 := Scalar.muli v4106 c256_i32_2473
  let c12_i32_2474 : BitVec 32 := 12#32
  let v4108 : BitVec 32 := Scalar.addi v4107 c12_i32_2474
  let c8_i32_2478 : BitVec 32 := 8#32
  let v4113 : BitVec 32 := Scalar.muli v4108 c8_i32_2478
  v4113
def k0_off3143 (i : grid0.Coords) : Fin 1 → Nat :=
  let c1_i32_2475 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4109 : BitVec 32 := Scalar.subi c1_i32_2475 v9
  ![v4109.toNat]
def k0_off3144 (i : grid0.Coords) : Fin 3 → Nat :=
  let c1_i32_2475 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4109 : BitVec 32 := Scalar.subi c1_i32_2475 v9
  let arg1 : BitVec 32 := BitVec.ofNat 32 (i 1).val
  let c2_i32_2471 : BitVec 32 := 2#32
  let v4105 : BitVec 32 := Scalar.muli arg1 c2_i32_2471
  let c1_i32_2472 : BitVec 32 := 1#32
  let v4106 : BitVec 32 := Scalar.addi v4105 c1_i32_2472
  let c256_i32_2473 : BitVec 32 := 256#32
  let v4107 : BitVec 32 := Scalar.muli v4106 c256_i32_2473
  let c12_i32_2474 : BitVec 32 := 12#32
  let v4108 : BitVec 32 := Scalar.addi v4107 c12_i32_2474
  let c8_i32_2478 : BitVec 32 := 8#32
  let v4113 : BitVec 32 := Scalar.muli v4108 c8_i32_2478
  let v4114 : BitVec 32 := v4113
  let c0_i32_2479 : BitVec 32 := 0#32
  ![v4109.toNat, v4114.toNat, 0]
def k0_off3145 (v4111 : BitVec 32) : Fin 2 → Nat :=
  let v4112 : BitVec 32 := v4111
  let c0_i32_2480 : BitVec 32 := 0#32
  ![v4112.toNat, 0]

def k0_chk782 (i : grid0.Coords) (v4111 : BitVec 32) : Prop :=
  (∀ (k0_h3 : k0_cond3 i = 1#1), 8 ∣ (k0_mult1563 v4111).toNat) ∧
  (∀ (k0_h3 : k0_cond3 i = 1#1), ∀ a, (k0_off3145 v4111) a + S8x128.size a ≤ S131072x128.size a)
theorem k0_mult1563_dvd : ∀ (i : grid0.Coords) (v4111 : BitVec 32) (k0_hw782 : k0_chk782 i v4111), ∀ (k0_h3 : k0_cond3 i = 1#1), 8 ∣ (k0_mult1563 v4111).toNat := fun i v4111 k0_hw782 k0_h3 => k0_hw782.1 k0_h3
theorem k0_off3145_inb : ∀ (i : grid0.Coords) (v4111 : BitVec 32) (k0_hw782 : k0_chk782 i v4111), ∀ (k0_h3 : k0_cond3 i = 1#1), ∀ a, (k0_off3145 v4111) a + S8x128.size a ≤ S131072x128.size a := fun i v4111 k0_hw782 k0_h3 => k0_hw782.2 k0_h3

def k0_off3146 (i : grid0.Coords) : Fin 3 → Nat :=
  let c0_2486 : Index := 0#32
  let c0_2487 : Index := 0#32
  let arg1 : BitVec 32 := BitVec.ofNat 32 (i 1).val
  let c2_i32_2481 : BitVec 32 := 2#32
  let v4120 : BitVec 32 := Scalar.muli arg1 c2_i32_2481
  let c1_i32_2482 : BitVec 32 := 1#32
  let v4121 : BitVec 32 := Scalar.addi v4120 c1_i32_2482
  let c256_i32_2483 : BitVec 32 := 256#32
  let v4122 : BitVec 32 := Scalar.muli v4121 c256_i32_2483
  let c13_i32_2484 : BitVec 32 := 13#32
  let v4123 : BitVec 32 := Scalar.addi v4122 c13_i32_2484
  let v4125 : Index := Scalar.indexCast v4123
  ![0, 0, v4125.toNat]
def k0_mult1565 (v4126 : BitVec 32) : BitVec 32 :=
  v4126

def k0_mult1566 (i : grid0.Coords) : BitVec 32 :=
  let arg1 : BitVec 32 := BitVec.ofNat 32 (i 1).val
  let c2_i32_2481 : BitVec 32 := 2#32
  let v4120 : BitVec 32 := Scalar.muli arg1 c2_i32_2481
  let c1_i32_2482 : BitVec 32 := 1#32
  let v4121 : BitVec 32 := Scalar.addi v4120 c1_i32_2482
  let c256_i32_2483 : BitVec 32 := 256#32
  let v4122 : BitVec 32 := Scalar.muli v4121 c256_i32_2483
  let c13_i32_2484 : BitVec 32 := 13#32
  let v4123 : BitVec 32 := Scalar.addi v4122 c13_i32_2484
  let c8_i32_2488 : BitVec 32 := 8#32
  let v4128 : BitVec 32 := Scalar.muli v4123 c8_i32_2488
  v4128
def k0_off3147 (i : grid0.Coords) : Fin 1 → Nat :=
  let c1_i32_2485 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4124 : BitVec 32 := Scalar.subi c1_i32_2485 v9
  ![v4124.toNat]
def k0_off3148 (i : grid0.Coords) : Fin 3 → Nat :=
  let c1_i32_2485 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4124 : BitVec 32 := Scalar.subi c1_i32_2485 v9
  let arg1 : BitVec 32 := BitVec.ofNat 32 (i 1).val
  let c2_i32_2481 : BitVec 32 := 2#32
  let v4120 : BitVec 32 := Scalar.muli arg1 c2_i32_2481
  let c1_i32_2482 : BitVec 32 := 1#32
  let v4121 : BitVec 32 := Scalar.addi v4120 c1_i32_2482
  let c256_i32_2483 : BitVec 32 := 256#32
  let v4122 : BitVec 32 := Scalar.muli v4121 c256_i32_2483
  let c13_i32_2484 : BitVec 32 := 13#32
  let v4123 : BitVec 32 := Scalar.addi v4122 c13_i32_2484
  let c8_i32_2488 : BitVec 32 := 8#32
  let v4128 : BitVec 32 := Scalar.muli v4123 c8_i32_2488
  let v4129 : BitVec 32 := v4128
  let c0_i32_2489 : BitVec 32 := 0#32
  ![v4124.toNat, v4129.toNat, 0]
def k0_off3149 (v4126 : BitVec 32) : Fin 2 → Nat :=
  let v4127 : BitVec 32 := v4126
  let c0_i32_2490 : BitVec 32 := 0#32
  ![v4127.toNat, 0]

def k0_chk783 (i : grid0.Coords) (v4126 : BitVec 32) : Prop :=
  (∀ (k0_h3 : k0_cond3 i = 1#1), 8 ∣ (k0_mult1565 v4126).toNat) ∧
  (∀ (k0_h3 : k0_cond3 i = 1#1), ∀ a, (k0_off3149 v4126) a + S8x128.size a ≤ S131072x128.size a)
theorem k0_mult1565_dvd : ∀ (i : grid0.Coords) (v4126 : BitVec 32) (k0_hw783 : k0_chk783 i v4126), ∀ (k0_h3 : k0_cond3 i = 1#1), 8 ∣ (k0_mult1565 v4126).toNat := fun i v4126 k0_hw783 k0_h3 => k0_hw783.1 k0_h3
theorem k0_off3149_inb : ∀ (i : grid0.Coords) (v4126 : BitVec 32) (k0_hw783 : k0_chk783 i v4126), ∀ (k0_h3 : k0_cond3 i = 1#1), ∀ a, (k0_off3149 v4126) a + S8x128.size a ≤ S131072x128.size a := fun i v4126 k0_hw783 k0_h3 => k0_hw783.2 k0_h3

def k0_off3150 (i : grid0.Coords) : Fin 3 → Nat :=
  let c0_2496 : Index := 0#32
  let c0_2497 : Index := 0#32
  let arg1 : BitVec 32 := BitVec.ofNat 32 (i 1).val
  let c2_i32_2491 : BitVec 32 := 2#32
  let v4135 : BitVec 32 := Scalar.muli arg1 c2_i32_2491
  let c1_i32_2492 : BitVec 32 := 1#32
  let v4136 : BitVec 32 := Scalar.addi v4135 c1_i32_2492
  let c256_i32_2493 : BitVec 32 := 256#32
  let v4137 : BitVec 32 := Scalar.muli v4136 c256_i32_2493
  let c14_i32_2494 : BitVec 32 := 14#32
  let v4138 : BitVec 32 := Scalar.addi v4137 c14_i32_2494
  let v4140 : Index := Scalar.indexCast v4138
  ![0, 0, v4140.toNat]
def k0_mult1567 (v4141 : BitVec 32) : BitVec 32 :=
  v4141

def k0_mult1568 (i : grid0.Coords) : BitVec 32 :=
  let arg1 : BitVec 32 := BitVec.ofNat 32 (i 1).val
  let c2_i32_2491 : BitVec 32 := 2#32
  let v4135 : BitVec 32 := Scalar.muli arg1 c2_i32_2491
  let c1_i32_2492 : BitVec 32 := 1#32
  let v4136 : BitVec 32 := Scalar.addi v4135 c1_i32_2492
  let c256_i32_2493 : BitVec 32 := 256#32
  let v4137 : BitVec 32 := Scalar.muli v4136 c256_i32_2493
  let c14_i32_2494 : BitVec 32 := 14#32
  let v4138 : BitVec 32 := Scalar.addi v4137 c14_i32_2494
  let c8_i32_2498 : BitVec 32 := 8#32
  let v4143 : BitVec 32 := Scalar.muli v4138 c8_i32_2498
  v4143
def k0_off3151 (i : grid0.Coords) : Fin 1 → Nat :=
  let c1_i32_2495 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4139 : BitVec 32 := Scalar.subi c1_i32_2495 v9
  ![v4139.toNat]
def k0_off3152 (i : grid0.Coords) : Fin 3 → Nat :=
  let c1_i32_2495 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4139 : BitVec 32 := Scalar.subi c1_i32_2495 v9
  let arg1 : BitVec 32 := BitVec.ofNat 32 (i 1).val
  let c2_i32_2491 : BitVec 32 := 2#32
  let v4135 : BitVec 32 := Scalar.muli arg1 c2_i32_2491
  let c1_i32_2492 : BitVec 32 := 1#32
  let v4136 : BitVec 32 := Scalar.addi v4135 c1_i32_2492
  let c256_i32_2493 : BitVec 32 := 256#32
  let v4137 : BitVec 32 := Scalar.muli v4136 c256_i32_2493
  let c14_i32_2494 : BitVec 32 := 14#32
  let v4138 : BitVec 32 := Scalar.addi v4137 c14_i32_2494
  let c8_i32_2498 : BitVec 32 := 8#32
  let v4143 : BitVec 32 := Scalar.muli v4138 c8_i32_2498
  let v4144 : BitVec 32 := v4143
  let c0_i32_2499 : BitVec 32 := 0#32
  ![v4139.toNat, v4144.toNat, 0]
def k0_off3153 (v4141 : BitVec 32) : Fin 2 → Nat :=
  let v4142 : BitVec 32 := v4141
  let c0_i32_2500 : BitVec 32 := 0#32
  ![v4142.toNat, 0]

def k0_chk784 (i : grid0.Coords) (v4141 : BitVec 32) : Prop :=
  (∀ (k0_h3 : k0_cond3 i = 1#1), 8 ∣ (k0_mult1567 v4141).toNat) ∧
  (∀ (k0_h3 : k0_cond3 i = 1#1), ∀ a, (k0_off3153 v4141) a + S8x128.size a ≤ S131072x128.size a)
theorem k0_mult1567_dvd : ∀ (i : grid0.Coords) (v4141 : BitVec 32) (k0_hw784 : k0_chk784 i v4141), ∀ (k0_h3 : k0_cond3 i = 1#1), 8 ∣ (k0_mult1567 v4141).toNat := fun i v4141 k0_hw784 k0_h3 => k0_hw784.1 k0_h3
theorem k0_off3153_inb : ∀ (i : grid0.Coords) (v4141 : BitVec 32) (k0_hw784 : k0_chk784 i v4141), ∀ (k0_h3 : k0_cond3 i = 1#1), ∀ a, (k0_off3153 v4141) a + S8x128.size a ≤ S131072x128.size a := fun i v4141 k0_hw784 k0_h3 => k0_hw784.2 k0_h3

def k0_off3154 (i : grid0.Coords) : Fin 3 → Nat :=
  let c0_2506 : Index := 0#32
  let c0_2507 : Index := 0#32
  let arg1 : BitVec 32 := BitVec.ofNat 32 (i 1).val
  let c2_i32_2501 : BitVec 32 := 2#32
  let v4150 : BitVec 32 := Scalar.muli arg1 c2_i32_2501
  let c1_i32_2502 : BitVec 32 := 1#32
  let v4151 : BitVec 32 := Scalar.addi v4150 c1_i32_2502
  let c256_i32_2503 : BitVec 32 := 256#32
  let v4152 : BitVec 32 := Scalar.muli v4151 c256_i32_2503
  let c15_i32_2504 : BitVec 32 := 15#32
  let v4153 : BitVec 32 := Scalar.addi v4152 c15_i32_2504
  let v4155 : Index := Scalar.indexCast v4153
  ![0, 0, v4155.toNat]
def k0_mult1569 (v4156 : BitVec 32) : BitVec 32 :=
  v4156

def k0_mult1570 (i : grid0.Coords) : BitVec 32 :=
  let arg1 : BitVec 32 := BitVec.ofNat 32 (i 1).val
  let c2_i32_2501 : BitVec 32 := 2#32
  let v4150 : BitVec 32 := Scalar.muli arg1 c2_i32_2501
  let c1_i32_2502 : BitVec 32 := 1#32
  let v4151 : BitVec 32 := Scalar.addi v4150 c1_i32_2502
  let c256_i32_2503 : BitVec 32 := 256#32
  let v4152 : BitVec 32 := Scalar.muli v4151 c256_i32_2503
  let c15_i32_2504 : BitVec 32 := 15#32
  let v4153 : BitVec 32 := Scalar.addi v4152 c15_i32_2504
  let c8_i32_2508 : BitVec 32 := 8#32
  let v4158 : BitVec 32 := Scalar.muli v4153 c8_i32_2508
  v4158
def k0_off3155 (i : grid0.Coords) : Fin 1 → Nat :=
  let c1_i32_2505 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4154 : BitVec 32 := Scalar.subi c1_i32_2505 v9
  ![v4154.toNat]
def k0_off3156 (i : grid0.Coords) : Fin 3 → Nat :=
  let c1_i32_2505 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4154 : BitVec 32 := Scalar.subi c1_i32_2505 v9
  let arg1 : BitVec 32 := BitVec.ofNat 32 (i 1).val
  let c2_i32_2501 : BitVec 32 := 2#32
  let v4150 : BitVec 32 := Scalar.muli arg1 c2_i32_2501
  let c1_i32_2502 : BitVec 32 := 1#32
  let v4151 : BitVec 32 := Scalar.addi v4150 c1_i32_2502
  let c256_i32_2503 : BitVec 32 := 256#32
  let v4152 : BitVec 32 := Scalar.muli v4151 c256_i32_2503
  let c15_i32_2504 : BitVec 32 := 15#32
  let v4153 : BitVec 32 := Scalar.addi v4152 c15_i32_2504
  let c8_i32_2508 : BitVec 32 := 8#32
  let v4158 : BitVec 32 := Scalar.muli v4153 c8_i32_2508
  let v4159 : BitVec 32 := v4158
  let c0_i32_2509 : BitVec 32 := 0#32
  ![v4154.toNat, v4159.toNat, 0]
def k0_off3157 (v4156 : BitVec 32) : Fin 2 → Nat :=
  let v4157 : BitVec 32 := v4156
  let c0_i32_2510 : BitVec 32 := 0#32
  ![v4157.toNat, 0]

def k0_chk785 (i : grid0.Coords) (v4156 : BitVec 32) : Prop :=
  (∀ (k0_h3 : k0_cond3 i = 1#1), 8 ∣ (k0_mult1569 v4156).toNat) ∧
  (∀ (k0_h3 : k0_cond3 i = 1#1), ∀ a, (k0_off3157 v4156) a + S8x128.size a ≤ S131072x128.size a)
theorem k0_mult1569_dvd : ∀ (i : grid0.Coords) (v4156 : BitVec 32) (k0_hw785 : k0_chk785 i v4156), ∀ (k0_h3 : k0_cond3 i = 1#1), 8 ∣ (k0_mult1569 v4156).toNat := fun i v4156 k0_hw785 k0_h3 => k0_hw785.1 k0_h3
theorem k0_off3157_inb : ∀ (i : grid0.Coords) (v4156 : BitVec 32) (k0_hw785 : k0_chk785 i v4156), ∀ (k0_h3 : k0_cond3 i = 1#1), ∀ a, (k0_off3157 v4156) a + S8x128.size a ≤ S131072x128.size a := fun i v4156 k0_hw785 k0_h3 => k0_hw785.2 k0_h3

def k0_off3158 (i : grid0.Coords) : Fin 3 → Nat :=
  let c0_2516 : Index := 0#32
  let c0_2517 : Index := 0#32
  let arg1 : BitVec 32 := BitVec.ofNat 32 (i 1).val
  let c2_i32_2511 : BitVec 32 := 2#32
  let v4165 : BitVec 32 := Scalar.muli arg1 c2_i32_2511
  let c1_i32_2512 : BitVec 32 := 1#32
  let v4166 : BitVec 32 := Scalar.addi v4165 c1_i32_2512
  let c256_i32_2513 : BitVec 32 := 256#32
  let v4167 : BitVec 32 := Scalar.muli v4166 c256_i32_2513
  let c16_i32_2514 : BitVec 32 := 16#32
  let v4168 : BitVec 32 := Scalar.addi v4167 c16_i32_2514
  let v4170 : Index := Scalar.indexCast v4168
  ![0, 0, v4170.toNat]
def k0_mult1571 (v4171 : BitVec 32) : BitVec 32 :=
  v4171

def k0_mult1572 (i : grid0.Coords) : BitVec 32 :=
  let arg1 : BitVec 32 := BitVec.ofNat 32 (i 1).val
  let c2_i32_2511 : BitVec 32 := 2#32
  let v4165 : BitVec 32 := Scalar.muli arg1 c2_i32_2511
  let c1_i32_2512 : BitVec 32 := 1#32
  let v4166 : BitVec 32 := Scalar.addi v4165 c1_i32_2512
  let c256_i32_2513 : BitVec 32 := 256#32
  let v4167 : BitVec 32 := Scalar.muli v4166 c256_i32_2513
  let c16_i32_2514 : BitVec 32 := 16#32
  let v4168 : BitVec 32 := Scalar.addi v4167 c16_i32_2514
  let c8_i32_2518 : BitVec 32 := 8#32
  let v4173 : BitVec 32 := Scalar.muli v4168 c8_i32_2518
  v4173
def k0_off3159 (i : grid0.Coords) : Fin 1 → Nat :=
  let c1_i32_2515 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4169 : BitVec 32 := Scalar.subi c1_i32_2515 v9
  ![v4169.toNat]
def k0_off3160 (i : grid0.Coords) : Fin 3 → Nat :=
  let c1_i32_2515 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4169 : BitVec 32 := Scalar.subi c1_i32_2515 v9
  let arg1 : BitVec 32 := BitVec.ofNat 32 (i 1).val
  let c2_i32_2511 : BitVec 32 := 2#32
  let v4165 : BitVec 32 := Scalar.muli arg1 c2_i32_2511
  let c1_i32_2512 : BitVec 32 := 1#32
  let v4166 : BitVec 32 := Scalar.addi v4165 c1_i32_2512
  let c256_i32_2513 : BitVec 32 := 256#32
  let v4167 : BitVec 32 := Scalar.muli v4166 c256_i32_2513
  let c16_i32_2514 : BitVec 32 := 16#32
  let v4168 : BitVec 32 := Scalar.addi v4167 c16_i32_2514
  let c8_i32_2518 : BitVec 32 := 8#32
  let v4173 : BitVec 32 := Scalar.muli v4168 c8_i32_2518
  let v4174 : BitVec 32 := v4173
  let c0_i32_2519 : BitVec 32 := 0#32
  ![v4169.toNat, v4174.toNat, 0]
def k0_off3161 (v4171 : BitVec 32) : Fin 2 → Nat :=
  let v4172 : BitVec 32 := v4171
  let c0_i32_2520 : BitVec 32 := 0#32
  ![v4172.toNat, 0]

def k0_chk786 (i : grid0.Coords) (v4171 : BitVec 32) : Prop :=
  (∀ (k0_h3 : k0_cond3 i = 1#1), 8 ∣ (k0_mult1571 v4171).toNat) ∧
  (∀ (k0_h3 : k0_cond3 i = 1#1), ∀ a, (k0_off3161 v4171) a + S8x128.size a ≤ S131072x128.size a)
theorem k0_mult1571_dvd : ∀ (i : grid0.Coords) (v4171 : BitVec 32) (k0_hw786 : k0_chk786 i v4171), ∀ (k0_h3 : k0_cond3 i = 1#1), 8 ∣ (k0_mult1571 v4171).toNat := fun i v4171 k0_hw786 k0_h3 => k0_hw786.1 k0_h3
theorem k0_off3161_inb : ∀ (i : grid0.Coords) (v4171 : BitVec 32) (k0_hw786 : k0_chk786 i v4171), ∀ (k0_h3 : k0_cond3 i = 1#1), ∀ a, (k0_off3161 v4171) a + S8x128.size a ≤ S131072x128.size a := fun i v4171 k0_hw786 k0_h3 => k0_hw786.2 k0_h3

def k0_off3162 (i : grid0.Coords) : Fin 3 → Nat :=
  let c0_2526 : Index := 0#32
  let c0_2527 : Index := 0#32
  let arg1 : BitVec 32 := BitVec.ofNat 32 (i 1).val
  let c2_i32_2521 : BitVec 32 := 2#32
  let v4180 : BitVec 32 := Scalar.muli arg1 c2_i32_2521
  let c1_i32_2522 : BitVec 32 := 1#32
  let v4181 : BitVec 32 := Scalar.addi v4180 c1_i32_2522
  let c256_i32_2523 : BitVec 32 := 256#32
  let v4182 : BitVec 32 := Scalar.muli v4181 c256_i32_2523
  let c17_i32_2524 : BitVec 32 := 17#32
  let v4183 : BitVec 32 := Scalar.addi v4182 c17_i32_2524
  let v4185 : Index := Scalar.indexCast v4183
  ![0, 0, v4185.toNat]
def k0_mult1573 (v4186 : BitVec 32) : BitVec 32 :=
  v4186

def k0_mult1574 (i : grid0.Coords) : BitVec 32 :=
  let arg1 : BitVec 32 := BitVec.ofNat 32 (i 1).val
  let c2_i32_2521 : BitVec 32 := 2#32
  let v4180 : BitVec 32 := Scalar.muli arg1 c2_i32_2521
  let c1_i32_2522 : BitVec 32 := 1#32
  let v4181 : BitVec 32 := Scalar.addi v4180 c1_i32_2522
  let c256_i32_2523 : BitVec 32 := 256#32
  let v4182 : BitVec 32 := Scalar.muli v4181 c256_i32_2523
  let c17_i32_2524 : BitVec 32 := 17#32
  let v4183 : BitVec 32 := Scalar.addi v4182 c17_i32_2524
  let c8_i32_2528 : BitVec 32 := 8#32
  let v4188 : BitVec 32 := Scalar.muli v4183 c8_i32_2528
  v4188
def k0_off3163 (i : grid0.Coords) : Fin 1 → Nat :=
  let c1_i32_2525 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4184 : BitVec 32 := Scalar.subi c1_i32_2525 v9
  ![v4184.toNat]
def k0_off3164 (i : grid0.Coords) : Fin 3 → Nat :=
  let c1_i32_2525 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4184 : BitVec 32 := Scalar.subi c1_i32_2525 v9
  let arg1 : BitVec 32 := BitVec.ofNat 32 (i 1).val
  let c2_i32_2521 : BitVec 32 := 2#32
  let v4180 : BitVec 32 := Scalar.muli arg1 c2_i32_2521
  let c1_i32_2522 : BitVec 32 := 1#32
  let v4181 : BitVec 32 := Scalar.addi v4180 c1_i32_2522
  let c256_i32_2523 : BitVec 32 := 256#32
  let v4182 : BitVec 32 := Scalar.muli v4181 c256_i32_2523
  let c17_i32_2524 : BitVec 32 := 17#32
  let v4183 : BitVec 32 := Scalar.addi v4182 c17_i32_2524
  let c8_i32_2528 : BitVec 32 := 8#32
  let v4188 : BitVec 32 := Scalar.muli v4183 c8_i32_2528
  let v4189 : BitVec 32 := v4188
  let c0_i32_2529 : BitVec 32 := 0#32
  ![v4184.toNat, v4189.toNat, 0]
def k0_off3165 (v4186 : BitVec 32) : Fin 2 → Nat :=
  let v4187 : BitVec 32 := v4186
  let c0_i32_2530 : BitVec 32 := 0#32
  ![v4187.toNat, 0]

def k0_chk787 (i : grid0.Coords) (v4186 : BitVec 32) : Prop :=
  (∀ (k0_h3 : k0_cond3 i = 1#1), 8 ∣ (k0_mult1573 v4186).toNat) ∧
  (∀ (k0_h3 : k0_cond3 i = 1#1), ∀ a, (k0_off3165 v4186) a + S8x128.size a ≤ S131072x128.size a)
theorem k0_mult1573_dvd : ∀ (i : grid0.Coords) (v4186 : BitVec 32) (k0_hw787 : k0_chk787 i v4186), ∀ (k0_h3 : k0_cond3 i = 1#1), 8 ∣ (k0_mult1573 v4186).toNat := fun i v4186 k0_hw787 k0_h3 => k0_hw787.1 k0_h3
theorem k0_off3165_inb : ∀ (i : grid0.Coords) (v4186 : BitVec 32) (k0_hw787 : k0_chk787 i v4186), ∀ (k0_h3 : k0_cond3 i = 1#1), ∀ a, (k0_off3165 v4186) a + S8x128.size a ≤ S131072x128.size a := fun i v4186 k0_hw787 k0_h3 => k0_hw787.2 k0_h3

def k0_off3166 (i : grid0.Coords) : Fin 3 → Nat :=
  let c0_2536 : Index := 0#32
  let c0_2537 : Index := 0#32
  let arg1 : BitVec 32 := BitVec.ofNat 32 (i 1).val
  let c2_i32_2531 : BitVec 32 := 2#32
  let v4195 : BitVec 32 := Scalar.muli arg1 c2_i32_2531
  let c1_i32_2532 : BitVec 32 := 1#32
  let v4196 : BitVec 32 := Scalar.addi v4195 c1_i32_2532
  let c256_i32_2533 : BitVec 32 := 256#32
  let v4197 : BitVec 32 := Scalar.muli v4196 c256_i32_2533
  let c18_i32_2534 : BitVec 32 := 18#32
  let v4198 : BitVec 32 := Scalar.addi v4197 c18_i32_2534
  let v4200 : Index := Scalar.indexCast v4198
  ![0, 0, v4200.toNat]
def k0_mult1575 (v4201 : BitVec 32) : BitVec 32 :=
  v4201

def k0_mult1576 (i : grid0.Coords) : BitVec 32 :=
  let arg1 : BitVec 32 := BitVec.ofNat 32 (i 1).val
  let c2_i32_2531 : BitVec 32 := 2#32
  let v4195 : BitVec 32 := Scalar.muli arg1 c2_i32_2531
  let c1_i32_2532 : BitVec 32 := 1#32
  let v4196 : BitVec 32 := Scalar.addi v4195 c1_i32_2532
  let c256_i32_2533 : BitVec 32 := 256#32
  let v4197 : BitVec 32 := Scalar.muli v4196 c256_i32_2533
  let c18_i32_2534 : BitVec 32 := 18#32
  let v4198 : BitVec 32 := Scalar.addi v4197 c18_i32_2534
  let c8_i32_2538 : BitVec 32 := 8#32
  let v4203 : BitVec 32 := Scalar.muli v4198 c8_i32_2538
  v4203
def k0_off3167 (i : grid0.Coords) : Fin 1 → Nat :=
  let c1_i32_2535 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4199 : BitVec 32 := Scalar.subi c1_i32_2535 v9
  ![v4199.toNat]
def k0_off3168 (i : grid0.Coords) : Fin 3 → Nat :=
  let c1_i32_2535 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4199 : BitVec 32 := Scalar.subi c1_i32_2535 v9
  let arg1 : BitVec 32 := BitVec.ofNat 32 (i 1).val
  let c2_i32_2531 : BitVec 32 := 2#32
  let v4195 : BitVec 32 := Scalar.muli arg1 c2_i32_2531
  let c1_i32_2532 : BitVec 32 := 1#32
  let v4196 : BitVec 32 := Scalar.addi v4195 c1_i32_2532
  let c256_i32_2533 : BitVec 32 := 256#32
  let v4197 : BitVec 32 := Scalar.muli v4196 c256_i32_2533
  let c18_i32_2534 : BitVec 32 := 18#32
  let v4198 : BitVec 32 := Scalar.addi v4197 c18_i32_2534
  let c8_i32_2538 : BitVec 32 := 8#32
  let v4203 : BitVec 32 := Scalar.muli v4198 c8_i32_2538
  let v4204 : BitVec 32 := v4203
  let c0_i32_2539 : BitVec 32 := 0#32
  ![v4199.toNat, v4204.toNat, 0]
def k0_off3169 (v4201 : BitVec 32) : Fin 2 → Nat :=
  let v4202 : BitVec 32 := v4201
  let c0_i32_2540 : BitVec 32 := 0#32
  ![v4202.toNat, 0]

def k0_chk788 (i : grid0.Coords) (v4201 : BitVec 32) : Prop :=
  (∀ (k0_h3 : k0_cond3 i = 1#1), 8 ∣ (k0_mult1575 v4201).toNat) ∧
  (∀ (k0_h3 : k0_cond3 i = 1#1), ∀ a, (k0_off3169 v4201) a + S8x128.size a ≤ S131072x128.size a)
theorem k0_mult1575_dvd : ∀ (i : grid0.Coords) (v4201 : BitVec 32) (k0_hw788 : k0_chk788 i v4201), ∀ (k0_h3 : k0_cond3 i = 1#1), 8 ∣ (k0_mult1575 v4201).toNat := fun i v4201 k0_hw788 k0_h3 => k0_hw788.1 k0_h3
theorem k0_off3169_inb : ∀ (i : grid0.Coords) (v4201 : BitVec 32) (k0_hw788 : k0_chk788 i v4201), ∀ (k0_h3 : k0_cond3 i = 1#1), ∀ a, (k0_off3169 v4201) a + S8x128.size a ≤ S131072x128.size a := fun i v4201 k0_hw788 k0_h3 => k0_hw788.2 k0_h3

def k0_off3170 (i : grid0.Coords) : Fin 3 → Nat :=
  let c0_2546 : Index := 0#32
  let c0_2547 : Index := 0#32
  let arg1 : BitVec 32 := BitVec.ofNat 32 (i 1).val
  let c2_i32_2541 : BitVec 32 := 2#32
  let v4210 : BitVec 32 := Scalar.muli arg1 c2_i32_2541
  let c1_i32_2542 : BitVec 32 := 1#32
  let v4211 : BitVec 32 := Scalar.addi v4210 c1_i32_2542
  let c256_i32_2543 : BitVec 32 := 256#32
  let v4212 : BitVec 32 := Scalar.muli v4211 c256_i32_2543
  let c19_i32_2544 : BitVec 32 := 19#32
  let v4213 : BitVec 32 := Scalar.addi v4212 c19_i32_2544
  let v4215 : Index := Scalar.indexCast v4213
  ![0, 0, v4215.toNat]
def k0_mult1577 (v4216 : BitVec 32) : BitVec 32 :=
  v4216

def k0_mult1578 (i : grid0.Coords) : BitVec 32 :=
  let arg1 : BitVec 32 := BitVec.ofNat 32 (i 1).val
  let c2_i32_2541 : BitVec 32 := 2#32
  let v4210 : BitVec 32 := Scalar.muli arg1 c2_i32_2541
  let c1_i32_2542 : BitVec 32 := 1#32
  let v4211 : BitVec 32 := Scalar.addi v4210 c1_i32_2542
  let c256_i32_2543 : BitVec 32 := 256#32
  let v4212 : BitVec 32 := Scalar.muli v4211 c256_i32_2543
  let c19_i32_2544 : BitVec 32 := 19#32
  let v4213 : BitVec 32 := Scalar.addi v4212 c19_i32_2544
  let c8_i32_2548 : BitVec 32 := 8#32
  let v4218 : BitVec 32 := Scalar.muli v4213 c8_i32_2548
  v4218
def k0_off3171 (i : grid0.Coords) : Fin 1 → Nat :=
  let c1_i32_2545 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4214 : BitVec 32 := Scalar.subi c1_i32_2545 v9
  ![v4214.toNat]
def k0_off3172 (i : grid0.Coords) : Fin 3 → Nat :=
  let c1_i32_2545 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4214 : BitVec 32 := Scalar.subi c1_i32_2545 v9
  let arg1 : BitVec 32 := BitVec.ofNat 32 (i 1).val
  let c2_i32_2541 : BitVec 32 := 2#32
  let v4210 : BitVec 32 := Scalar.muli arg1 c2_i32_2541
  let c1_i32_2542 : BitVec 32 := 1#32
  let v4211 : BitVec 32 := Scalar.addi v4210 c1_i32_2542
  let c256_i32_2543 : BitVec 32 := 256#32
  let v4212 : BitVec 32 := Scalar.muli v4211 c256_i32_2543
  let c19_i32_2544 : BitVec 32 := 19#32
  let v4213 : BitVec 32 := Scalar.addi v4212 c19_i32_2544
  let c8_i32_2548 : BitVec 32 := 8#32
  let v4218 : BitVec 32 := Scalar.muli v4213 c8_i32_2548
  let v4219 : BitVec 32 := v4218
  let c0_i32_2549 : BitVec 32 := 0#32
  ![v4214.toNat, v4219.toNat, 0]
def k0_off3173 (v4216 : BitVec 32) : Fin 2 → Nat :=
  let v4217 : BitVec 32 := v4216
  let c0_i32_2550 : BitVec 32 := 0#32
  ![v4217.toNat, 0]

def k0_chk789 (i : grid0.Coords) (v4216 : BitVec 32) : Prop :=
  (∀ (k0_h3 : k0_cond3 i = 1#1), 8 ∣ (k0_mult1577 v4216).toNat) ∧
  (∀ (k0_h3 : k0_cond3 i = 1#1), ∀ a, (k0_off3173 v4216) a + S8x128.size a ≤ S131072x128.size a)
theorem k0_mult1577_dvd : ∀ (i : grid0.Coords) (v4216 : BitVec 32) (k0_hw789 : k0_chk789 i v4216), ∀ (k0_h3 : k0_cond3 i = 1#1), 8 ∣ (k0_mult1577 v4216).toNat := fun i v4216 k0_hw789 k0_h3 => k0_hw789.1 k0_h3
theorem k0_off3173_inb : ∀ (i : grid0.Coords) (v4216 : BitVec 32) (k0_hw789 : k0_chk789 i v4216), ∀ (k0_h3 : k0_cond3 i = 1#1), ∀ a, (k0_off3173 v4216) a + S8x128.size a ≤ S131072x128.size a := fun i v4216 k0_hw789 k0_h3 => k0_hw789.2 k0_h3

def k0_off3174 (i : grid0.Coords) : Fin 3 → Nat :=
  let c0_2556 : Index := 0#32
  let c0_2557 : Index := 0#32
  let arg1 : BitVec 32 := BitVec.ofNat 32 (i 1).val
  let c2_i32_2551 : BitVec 32 := 2#32
  let v4225 : BitVec 32 := Scalar.muli arg1 c2_i32_2551
  let c1_i32_2552 : BitVec 32 := 1#32
  let v4226 : BitVec 32 := Scalar.addi v4225 c1_i32_2552
  let c256_i32_2553 : BitVec 32 := 256#32
  let v4227 : BitVec 32 := Scalar.muli v4226 c256_i32_2553
  let c20_i32_2554 : BitVec 32 := 20#32
  let v4228 : BitVec 32 := Scalar.addi v4227 c20_i32_2554
  let v4230 : Index := Scalar.indexCast v4228
  ![0, 0, v4230.toNat]
def k0_mult1579 (v4231 : BitVec 32) : BitVec 32 :=
  v4231

def k0_mult1580 (i : grid0.Coords) : BitVec 32 :=
  let arg1 : BitVec 32 := BitVec.ofNat 32 (i 1).val
  let c2_i32_2551 : BitVec 32 := 2#32
  let v4225 : BitVec 32 := Scalar.muli arg1 c2_i32_2551
  let c1_i32_2552 : BitVec 32 := 1#32
  let v4226 : BitVec 32 := Scalar.addi v4225 c1_i32_2552
  let c256_i32_2553 : BitVec 32 := 256#32
  let v4227 : BitVec 32 := Scalar.muli v4226 c256_i32_2553
  let c20_i32_2554 : BitVec 32 := 20#32
  let v4228 : BitVec 32 := Scalar.addi v4227 c20_i32_2554
  let c8_i32_2558 : BitVec 32 := 8#32
  let v4233 : BitVec 32 := Scalar.muli v4228 c8_i32_2558
  v4233
def k0_off3175 (i : grid0.Coords) : Fin 1 → Nat :=
  let c1_i32_2555 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4229 : BitVec 32 := Scalar.subi c1_i32_2555 v9
  ![v4229.toNat]
def k0_off3176 (i : grid0.Coords) : Fin 3 → Nat :=
  let c1_i32_2555 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4229 : BitVec 32 := Scalar.subi c1_i32_2555 v9
  let arg1 : BitVec 32 := BitVec.ofNat 32 (i 1).val
  let c2_i32_2551 : BitVec 32 := 2#32
  let v4225 : BitVec 32 := Scalar.muli arg1 c2_i32_2551
  let c1_i32_2552 : BitVec 32 := 1#32
  let v4226 : BitVec 32 := Scalar.addi v4225 c1_i32_2552
  let c256_i32_2553 : BitVec 32 := 256#32
  let v4227 : BitVec 32 := Scalar.muli v4226 c256_i32_2553
  let c20_i32_2554 : BitVec 32 := 20#32
  let v4228 : BitVec 32 := Scalar.addi v4227 c20_i32_2554
  let c8_i32_2558 : BitVec 32 := 8#32
  let v4233 : BitVec 32 := Scalar.muli v4228 c8_i32_2558
  let v4234 : BitVec 32 := v4233
  let c0_i32_2559 : BitVec 32 := 0#32
  ![v4229.toNat, v4234.toNat, 0]
def k0_off3177 (v4231 : BitVec 32) : Fin 2 → Nat :=
  let v4232 : BitVec 32 := v4231
  let c0_i32_2560 : BitVec 32 := 0#32
  ![v4232.toNat, 0]

def k0_chk790 (i : grid0.Coords) (v4231 : BitVec 32) : Prop :=
  (∀ (k0_h3 : k0_cond3 i = 1#1), 8 ∣ (k0_mult1579 v4231).toNat) ∧
  (∀ (k0_h3 : k0_cond3 i = 1#1), ∀ a, (k0_off3177 v4231) a + S8x128.size a ≤ S131072x128.size a)
theorem k0_mult1579_dvd : ∀ (i : grid0.Coords) (v4231 : BitVec 32) (k0_hw790 : k0_chk790 i v4231), ∀ (k0_h3 : k0_cond3 i = 1#1), 8 ∣ (k0_mult1579 v4231).toNat := fun i v4231 k0_hw790 k0_h3 => k0_hw790.1 k0_h3
theorem k0_off3177_inb : ∀ (i : grid0.Coords) (v4231 : BitVec 32) (k0_hw790 : k0_chk790 i v4231), ∀ (k0_h3 : k0_cond3 i = 1#1), ∀ a, (k0_off3177 v4231) a + S8x128.size a ≤ S131072x128.size a := fun i v4231 k0_hw790 k0_h3 => k0_hw790.2 k0_h3

def k0_off3178 (i : grid0.Coords) : Fin 3 → Nat :=
  let c0_2566 : Index := 0#32
  let c0_2567 : Index := 0#32
  let arg1 : BitVec 32 := BitVec.ofNat 32 (i 1).val
  let c2_i32_2561 : BitVec 32 := 2#32
  let v4240 : BitVec 32 := Scalar.muli arg1 c2_i32_2561
  let c1_i32_2562 : BitVec 32 := 1#32
  let v4241 : BitVec 32 := Scalar.addi v4240 c1_i32_2562
  let c256_i32_2563 : BitVec 32 := 256#32
  let v4242 : BitVec 32 := Scalar.muli v4241 c256_i32_2563
  let c21_i32_2564 : BitVec 32 := 21#32
  let v4243 : BitVec 32 := Scalar.addi v4242 c21_i32_2564
  let v4245 : Index := Scalar.indexCast v4243
  ![0, 0, v4245.toNat]
def k0_mult1581 (v4246 : BitVec 32) : BitVec 32 :=
  v4246

def k0_mult1582 (i : grid0.Coords) : BitVec 32 :=
  let arg1 : BitVec 32 := BitVec.ofNat 32 (i 1).val
  let c2_i32_2561 : BitVec 32 := 2#32
  let v4240 : BitVec 32 := Scalar.muli arg1 c2_i32_2561
  let c1_i32_2562 : BitVec 32 := 1#32
  let v4241 : BitVec 32 := Scalar.addi v4240 c1_i32_2562
  let c256_i32_2563 : BitVec 32 := 256#32
  let v4242 : BitVec 32 := Scalar.muli v4241 c256_i32_2563
  let c21_i32_2564 : BitVec 32 := 21#32
  let v4243 : BitVec 32 := Scalar.addi v4242 c21_i32_2564
  let c8_i32_2568 : BitVec 32 := 8#32
  let v4248 : BitVec 32 := Scalar.muli v4243 c8_i32_2568
  v4248
def k0_off3179 (i : grid0.Coords) : Fin 1 → Nat :=
  let c1_i32_2565 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4244 : BitVec 32 := Scalar.subi c1_i32_2565 v9
  ![v4244.toNat]
def k0_off3180 (i : grid0.Coords) : Fin 3 → Nat :=
  let c1_i32_2565 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4244 : BitVec 32 := Scalar.subi c1_i32_2565 v9
  let arg1 : BitVec 32 := BitVec.ofNat 32 (i 1).val
  let c2_i32_2561 : BitVec 32 := 2#32
  let v4240 : BitVec 32 := Scalar.muli arg1 c2_i32_2561
  let c1_i32_2562 : BitVec 32 := 1#32
  let v4241 : BitVec 32 := Scalar.addi v4240 c1_i32_2562
  let c256_i32_2563 : BitVec 32 := 256#32
  let v4242 : BitVec 32 := Scalar.muli v4241 c256_i32_2563
  let c21_i32_2564 : BitVec 32 := 21#32
  let v4243 : BitVec 32 := Scalar.addi v4242 c21_i32_2564
  let c8_i32_2568 : BitVec 32 := 8#32
  let v4248 : BitVec 32 := Scalar.muli v4243 c8_i32_2568
  let v4249 : BitVec 32 := v4248
  let c0_i32_2569 : BitVec 32 := 0#32
  ![v4244.toNat, v4249.toNat, 0]
def k0_off3181 (v4246 : BitVec 32) : Fin 2 → Nat :=
  let v4247 : BitVec 32 := v4246
  let c0_i32_2570 : BitVec 32 := 0#32
  ![v4247.toNat, 0]

def k0_chk791 (i : grid0.Coords) (v4246 : BitVec 32) : Prop :=
  (∀ (k0_h3 : k0_cond3 i = 1#1), 8 ∣ (k0_mult1581 v4246).toNat) ∧
  (∀ (k0_h3 : k0_cond3 i = 1#1), ∀ a, (k0_off3181 v4246) a + S8x128.size a ≤ S131072x128.size a)
theorem k0_mult1581_dvd : ∀ (i : grid0.Coords) (v4246 : BitVec 32) (k0_hw791 : k0_chk791 i v4246), ∀ (k0_h3 : k0_cond3 i = 1#1), 8 ∣ (k0_mult1581 v4246).toNat := fun i v4246 k0_hw791 k0_h3 => k0_hw791.1 k0_h3
theorem k0_off3181_inb : ∀ (i : grid0.Coords) (v4246 : BitVec 32) (k0_hw791 : k0_chk791 i v4246), ∀ (k0_h3 : k0_cond3 i = 1#1), ∀ a, (k0_off3181 v4246) a + S8x128.size a ≤ S131072x128.size a := fun i v4246 k0_hw791 k0_h3 => k0_hw791.2 k0_h3

def k0_off3182 (i : grid0.Coords) : Fin 3 → Nat :=
  let c0_2576 : Index := 0#32
  let c0_2577 : Index := 0#32
  let arg1 : BitVec 32 := BitVec.ofNat 32 (i 1).val
  let c2_i32_2571 : BitVec 32 := 2#32
  let v4255 : BitVec 32 := Scalar.muli arg1 c2_i32_2571
  let c1_i32_2572 : BitVec 32 := 1#32
  let v4256 : BitVec 32 := Scalar.addi v4255 c1_i32_2572
  let c256_i32_2573 : BitVec 32 := 256#32
  let v4257 : BitVec 32 := Scalar.muli v4256 c256_i32_2573
  let c22_i32_2574 : BitVec 32 := 22#32
  let v4258 : BitVec 32 := Scalar.addi v4257 c22_i32_2574
  let v4260 : Index := Scalar.indexCast v4258
  ![0, 0, v4260.toNat]
def k0_mult1583 (v4261 : BitVec 32) : BitVec 32 :=
  v4261

def k0_mult1584 (i : grid0.Coords) : BitVec 32 :=
  let arg1 : BitVec 32 := BitVec.ofNat 32 (i 1).val
  let c2_i32_2571 : BitVec 32 := 2#32
  let v4255 : BitVec 32 := Scalar.muli arg1 c2_i32_2571
  let c1_i32_2572 : BitVec 32 := 1#32
  let v4256 : BitVec 32 := Scalar.addi v4255 c1_i32_2572
  let c256_i32_2573 : BitVec 32 := 256#32
  let v4257 : BitVec 32 := Scalar.muli v4256 c256_i32_2573
  let c22_i32_2574 : BitVec 32 := 22#32
  let v4258 : BitVec 32 := Scalar.addi v4257 c22_i32_2574
  let c8_i32_2578 : BitVec 32 := 8#32
  let v4263 : BitVec 32 := Scalar.muli v4258 c8_i32_2578
  v4263
def k0_off3183 (i : grid0.Coords) : Fin 1 → Nat :=
  let c1_i32_2575 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4259 : BitVec 32 := Scalar.subi c1_i32_2575 v9
  ![v4259.toNat]
def k0_off3184 (i : grid0.Coords) : Fin 3 → Nat :=
  let c1_i32_2575 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4259 : BitVec 32 := Scalar.subi c1_i32_2575 v9
  let arg1 : BitVec 32 := BitVec.ofNat 32 (i 1).val
  let c2_i32_2571 : BitVec 32 := 2#32
  let v4255 : BitVec 32 := Scalar.muli arg1 c2_i32_2571
  let c1_i32_2572 : BitVec 32 := 1#32
  let v4256 : BitVec 32 := Scalar.addi v4255 c1_i32_2572
  let c256_i32_2573 : BitVec 32 := 256#32
  let v4257 : BitVec 32 := Scalar.muli v4256 c256_i32_2573
  let c22_i32_2574 : BitVec 32 := 22#32
  let v4258 : BitVec 32 := Scalar.addi v4257 c22_i32_2574
  let c8_i32_2578 : BitVec 32 := 8#32
  let v4263 : BitVec 32 := Scalar.muli v4258 c8_i32_2578
  let v4264 : BitVec 32 := v4263
  let c0_i32_2579 : BitVec 32 := 0#32
  ![v4259.toNat, v4264.toNat, 0]
def k0_off3185 (v4261 : BitVec 32) : Fin 2 → Nat :=
  let v4262 : BitVec 32 := v4261
  let c0_i32_2580 : BitVec 32 := 0#32
  ![v4262.toNat, 0]

def k0_chk792 (i : grid0.Coords) (v4261 : BitVec 32) : Prop :=
  (∀ (k0_h3 : k0_cond3 i = 1#1), 8 ∣ (k0_mult1583 v4261).toNat) ∧
  (∀ (k0_h3 : k0_cond3 i = 1#1), ∀ a, (k0_off3185 v4261) a + S8x128.size a ≤ S131072x128.size a)
theorem k0_mult1583_dvd : ∀ (i : grid0.Coords) (v4261 : BitVec 32) (k0_hw792 : k0_chk792 i v4261), ∀ (k0_h3 : k0_cond3 i = 1#1), 8 ∣ (k0_mult1583 v4261).toNat := fun i v4261 k0_hw792 k0_h3 => k0_hw792.1 k0_h3
theorem k0_off3185_inb : ∀ (i : grid0.Coords) (v4261 : BitVec 32) (k0_hw792 : k0_chk792 i v4261), ∀ (k0_h3 : k0_cond3 i = 1#1), ∀ a, (k0_off3185 v4261) a + S8x128.size a ≤ S131072x128.size a := fun i v4261 k0_hw792 k0_h3 => k0_hw792.2 k0_h3

def k0_off3186 (i : grid0.Coords) : Fin 3 → Nat :=
  let c0_2586 : Index := 0#32
  let c0_2587 : Index := 0#32
  let arg1 : BitVec 32 := BitVec.ofNat 32 (i 1).val
  let c2_i32_2581 : BitVec 32 := 2#32
  let v4270 : BitVec 32 := Scalar.muli arg1 c2_i32_2581
  let c1_i32_2582 : BitVec 32 := 1#32
  let v4271 : BitVec 32 := Scalar.addi v4270 c1_i32_2582
  let c256_i32_2583 : BitVec 32 := 256#32
  let v4272 : BitVec 32 := Scalar.muli v4271 c256_i32_2583
  let c23_i32_2584 : BitVec 32 := 23#32
  let v4273 : BitVec 32 := Scalar.addi v4272 c23_i32_2584
  let v4275 : Index := Scalar.indexCast v4273
  ![0, 0, v4275.toNat]
def k0_mult1585 (v4276 : BitVec 32) : BitVec 32 :=
  v4276

def k0_mult1586 (i : grid0.Coords) : BitVec 32 :=
  let arg1 : BitVec 32 := BitVec.ofNat 32 (i 1).val
  let c2_i32_2581 : BitVec 32 := 2#32
  let v4270 : BitVec 32 := Scalar.muli arg1 c2_i32_2581
  let c1_i32_2582 : BitVec 32 := 1#32
  let v4271 : BitVec 32 := Scalar.addi v4270 c1_i32_2582
  let c256_i32_2583 : BitVec 32 := 256#32
  let v4272 : BitVec 32 := Scalar.muli v4271 c256_i32_2583
  let c23_i32_2584 : BitVec 32 := 23#32
  let v4273 : BitVec 32 := Scalar.addi v4272 c23_i32_2584
  let c8_i32_2588 : BitVec 32 := 8#32
  let v4278 : BitVec 32 := Scalar.muli v4273 c8_i32_2588
  v4278
def k0_off3187 (i : grid0.Coords) : Fin 1 → Nat :=
  let c1_i32_2585 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4274 : BitVec 32 := Scalar.subi c1_i32_2585 v9
  ![v4274.toNat]
def k0_off3188 (i : grid0.Coords) : Fin 3 → Nat :=
  let c1_i32_2585 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4274 : BitVec 32 := Scalar.subi c1_i32_2585 v9
  let arg1 : BitVec 32 := BitVec.ofNat 32 (i 1).val
  let c2_i32_2581 : BitVec 32 := 2#32
  let v4270 : BitVec 32 := Scalar.muli arg1 c2_i32_2581
  let c1_i32_2582 : BitVec 32 := 1#32
  let v4271 : BitVec 32 := Scalar.addi v4270 c1_i32_2582
  let c256_i32_2583 : BitVec 32 := 256#32
  let v4272 : BitVec 32 := Scalar.muli v4271 c256_i32_2583
  let c23_i32_2584 : BitVec 32 := 23#32
  let v4273 : BitVec 32 := Scalar.addi v4272 c23_i32_2584
  let c8_i32_2588 : BitVec 32 := 8#32
  let v4278 : BitVec 32 := Scalar.muli v4273 c8_i32_2588
  let v4279 : BitVec 32 := v4278
  let c0_i32_2589 : BitVec 32 := 0#32
  ![v4274.toNat, v4279.toNat, 0]
def k0_off3189 (v4276 : BitVec 32) : Fin 2 → Nat :=
  let v4277 : BitVec 32 := v4276
  let c0_i32_2590 : BitVec 32 := 0#32
  ![v4277.toNat, 0]

def k0_chk793 (i : grid0.Coords) (v4276 : BitVec 32) : Prop :=
  (∀ (k0_h3 : k0_cond3 i = 1#1), 8 ∣ (k0_mult1585 v4276).toNat) ∧
  (∀ (k0_h3 : k0_cond3 i = 1#1), ∀ a, (k0_off3189 v4276) a + S8x128.size a ≤ S131072x128.size a)
theorem k0_mult1585_dvd : ∀ (i : grid0.Coords) (v4276 : BitVec 32) (k0_hw793 : k0_chk793 i v4276), ∀ (k0_h3 : k0_cond3 i = 1#1), 8 ∣ (k0_mult1585 v4276).toNat := fun i v4276 k0_hw793 k0_h3 => k0_hw793.1 k0_h3
theorem k0_off3189_inb : ∀ (i : grid0.Coords) (v4276 : BitVec 32) (k0_hw793 : k0_chk793 i v4276), ∀ (k0_h3 : k0_cond3 i = 1#1), ∀ a, (k0_off3189 v4276) a + S8x128.size a ≤ S131072x128.size a := fun i v4276 k0_hw793 k0_h3 => k0_hw793.2 k0_h3

def k0_off3190 (i : grid0.Coords) : Fin 3 → Nat :=
  let c0_2596 : Index := 0#32
  let c0_2597 : Index := 0#32
  let arg1 : BitVec 32 := BitVec.ofNat 32 (i 1).val
  let c2_i32_2591 : BitVec 32 := 2#32
  let v4285 : BitVec 32 := Scalar.muli arg1 c2_i32_2591
  let c1_i32_2592 : BitVec 32 := 1#32
  let v4286 : BitVec 32 := Scalar.addi v4285 c1_i32_2592
  let c256_i32_2593 : BitVec 32 := 256#32
  let v4287 : BitVec 32 := Scalar.muli v4286 c256_i32_2593
  let c24_i32_2594 : BitVec 32 := 24#32
  let v4288 : BitVec 32 := Scalar.addi v4287 c24_i32_2594
  let v4290 : Index := Scalar.indexCast v4288
  ![0, 0, v4290.toNat]
def k0_mult1587 (v4291 : BitVec 32) : BitVec 32 :=
  v4291

def k0_mult1588 (i : grid0.Coords) : BitVec 32 :=
  let arg1 : BitVec 32 := BitVec.ofNat 32 (i 1).val
  let c2_i32_2591 : BitVec 32 := 2#32
  let v4285 : BitVec 32 := Scalar.muli arg1 c2_i32_2591
  let c1_i32_2592 : BitVec 32 := 1#32
  let v4286 : BitVec 32 := Scalar.addi v4285 c1_i32_2592
  let c256_i32_2593 : BitVec 32 := 256#32
  let v4287 : BitVec 32 := Scalar.muli v4286 c256_i32_2593
  let c24_i32_2594 : BitVec 32 := 24#32
  let v4288 : BitVec 32 := Scalar.addi v4287 c24_i32_2594
  let c8_i32_2598 : BitVec 32 := 8#32
  let v4293 : BitVec 32 := Scalar.muli v4288 c8_i32_2598
  v4293
def k0_off3191 (i : grid0.Coords) : Fin 1 → Nat :=
  let c1_i32_2595 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4289 : BitVec 32 := Scalar.subi c1_i32_2595 v9
  ![v4289.toNat]
def k0_off3192 (i : grid0.Coords) : Fin 3 → Nat :=
  let c1_i32_2595 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4289 : BitVec 32 := Scalar.subi c1_i32_2595 v9
  let arg1 : BitVec 32 := BitVec.ofNat 32 (i 1).val
  let c2_i32_2591 : BitVec 32 := 2#32
  let v4285 : BitVec 32 := Scalar.muli arg1 c2_i32_2591
  let c1_i32_2592 : BitVec 32 := 1#32
  let v4286 : BitVec 32 := Scalar.addi v4285 c1_i32_2592
  let c256_i32_2593 : BitVec 32 := 256#32
  let v4287 : BitVec 32 := Scalar.muli v4286 c256_i32_2593
  let c24_i32_2594 : BitVec 32 := 24#32
  let v4288 : BitVec 32 := Scalar.addi v4287 c24_i32_2594
  let c8_i32_2598 : BitVec 32 := 8#32
  let v4293 : BitVec 32 := Scalar.muli v4288 c8_i32_2598
  let v4294 : BitVec 32 := v4293
  let c0_i32_2599 : BitVec 32 := 0#32
  ![v4289.toNat, v4294.toNat, 0]
def k0_off3193 (v4291 : BitVec 32) : Fin 2 → Nat :=
  let v4292 : BitVec 32 := v4291
  let c0_i32_2600 : BitVec 32 := 0#32
  ![v4292.toNat, 0]

def k0_chk794 (i : grid0.Coords) (v4291 : BitVec 32) : Prop :=
  (∀ (k0_h3 : k0_cond3 i = 1#1), 8 ∣ (k0_mult1587 v4291).toNat) ∧
  (∀ (k0_h3 : k0_cond3 i = 1#1), ∀ a, (k0_off3193 v4291) a + S8x128.size a ≤ S131072x128.size a)
theorem k0_mult1587_dvd : ∀ (i : grid0.Coords) (v4291 : BitVec 32) (k0_hw794 : k0_chk794 i v4291), ∀ (k0_h3 : k0_cond3 i = 1#1), 8 ∣ (k0_mult1587 v4291).toNat := fun i v4291 k0_hw794 k0_h3 => k0_hw794.1 k0_h3
theorem k0_off3193_inb : ∀ (i : grid0.Coords) (v4291 : BitVec 32) (k0_hw794 : k0_chk794 i v4291), ∀ (k0_h3 : k0_cond3 i = 1#1), ∀ a, (k0_off3193 v4291) a + S8x128.size a ≤ S131072x128.size a := fun i v4291 k0_hw794 k0_h3 => k0_hw794.2 k0_h3

def k0_off3194 (i : grid0.Coords) : Fin 3 → Nat :=
  let c0_2606 : Index := 0#32
  let c0_2607 : Index := 0#32
  let arg1 : BitVec 32 := BitVec.ofNat 32 (i 1).val
  let c2_i32_2601 : BitVec 32 := 2#32
  let v4300 : BitVec 32 := Scalar.muli arg1 c2_i32_2601
  let c1_i32_2602 : BitVec 32 := 1#32
  let v4301 : BitVec 32 := Scalar.addi v4300 c1_i32_2602
  let c256_i32_2603 : BitVec 32 := 256#32
  let v4302 : BitVec 32 := Scalar.muli v4301 c256_i32_2603
  let c25_i32_2604 : BitVec 32 := 25#32
  let v4303 : BitVec 32 := Scalar.addi v4302 c25_i32_2604
  let v4305 : Index := Scalar.indexCast v4303
  ![0, 0, v4305.toNat]
def k0_mult1589 (v4306 : BitVec 32) : BitVec 32 :=
  v4306

def k0_mult1590 (i : grid0.Coords) : BitVec 32 :=
  let arg1 : BitVec 32 := BitVec.ofNat 32 (i 1).val
  let c2_i32_2601 : BitVec 32 := 2#32
  let v4300 : BitVec 32 := Scalar.muli arg1 c2_i32_2601
  let c1_i32_2602 : BitVec 32 := 1#32
  let v4301 : BitVec 32 := Scalar.addi v4300 c1_i32_2602
  let c256_i32_2603 : BitVec 32 := 256#32
  let v4302 : BitVec 32 := Scalar.muli v4301 c256_i32_2603
  let c25_i32_2604 : BitVec 32 := 25#32
  let v4303 : BitVec 32 := Scalar.addi v4302 c25_i32_2604
  let c8_i32_2608 : BitVec 32 := 8#32
  let v4308 : BitVec 32 := Scalar.muli v4303 c8_i32_2608
  v4308
def k0_off3195 (i : grid0.Coords) : Fin 1 → Nat :=
  let c1_i32_2605 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4304 : BitVec 32 := Scalar.subi c1_i32_2605 v9
  ![v4304.toNat]
def k0_off3196 (i : grid0.Coords) : Fin 3 → Nat :=
  let c1_i32_2605 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4304 : BitVec 32 := Scalar.subi c1_i32_2605 v9
  let arg1 : BitVec 32 := BitVec.ofNat 32 (i 1).val
  let c2_i32_2601 : BitVec 32 := 2#32
  let v4300 : BitVec 32 := Scalar.muli arg1 c2_i32_2601
  let c1_i32_2602 : BitVec 32 := 1#32
  let v4301 : BitVec 32 := Scalar.addi v4300 c1_i32_2602
  let c256_i32_2603 : BitVec 32 := 256#32
  let v4302 : BitVec 32 := Scalar.muli v4301 c256_i32_2603
  let c25_i32_2604 : BitVec 32 := 25#32
  let v4303 : BitVec 32 := Scalar.addi v4302 c25_i32_2604
  let c8_i32_2608 : BitVec 32 := 8#32
  let v4308 : BitVec 32 := Scalar.muli v4303 c8_i32_2608
  let v4309 : BitVec 32 := v4308
  let c0_i32_2609 : BitVec 32 := 0#32
  ![v4304.toNat, v4309.toNat, 0]
def k0_off3197 (v4306 : BitVec 32) : Fin 2 → Nat :=
  let v4307 : BitVec 32 := v4306
  let c0_i32_2610 : BitVec 32 := 0#32
  ![v4307.toNat, 0]

def k0_chk795 (i : grid0.Coords) (v4306 : BitVec 32) : Prop :=
  (∀ (k0_h3 : k0_cond3 i = 1#1), 8 ∣ (k0_mult1589 v4306).toNat) ∧
  (∀ (k0_h3 : k0_cond3 i = 1#1), ∀ a, (k0_off3197 v4306) a + S8x128.size a ≤ S131072x128.size a)
theorem k0_mult1589_dvd : ∀ (i : grid0.Coords) (v4306 : BitVec 32) (k0_hw795 : k0_chk795 i v4306), ∀ (k0_h3 : k0_cond3 i = 1#1), 8 ∣ (k0_mult1589 v4306).toNat := fun i v4306 k0_hw795 k0_h3 => k0_hw795.1 k0_h3
theorem k0_off3197_inb : ∀ (i : grid0.Coords) (v4306 : BitVec 32) (k0_hw795 : k0_chk795 i v4306), ∀ (k0_h3 : k0_cond3 i = 1#1), ∀ a, (k0_off3197 v4306) a + S8x128.size a ≤ S131072x128.size a := fun i v4306 k0_hw795 k0_h3 => k0_hw795.2 k0_h3

def k0_off3198 (i : grid0.Coords) : Fin 3 → Nat :=
  let c0_2616 : Index := 0#32
  let c0_2617 : Index := 0#32
  let arg1 : BitVec 32 := BitVec.ofNat 32 (i 1).val
  let c2_i32_2611 : BitVec 32 := 2#32
  let v4315 : BitVec 32 := Scalar.muli arg1 c2_i32_2611
  let c1_i32_2612 : BitVec 32 := 1#32
  let v4316 : BitVec 32 := Scalar.addi v4315 c1_i32_2612
  let c256_i32_2613 : BitVec 32 := 256#32
  let v4317 : BitVec 32 := Scalar.muli v4316 c256_i32_2613
  let c26_i32_2614 : BitVec 32 := 26#32
  let v4318 : BitVec 32 := Scalar.addi v4317 c26_i32_2614
  let v4320 : Index := Scalar.indexCast v4318
  ![0, 0, v4320.toNat]
def k0_mult1591 (v4321 : BitVec 32) : BitVec 32 :=
  v4321

def k0_mult1592 (i : grid0.Coords) : BitVec 32 :=
  let arg1 : BitVec 32 := BitVec.ofNat 32 (i 1).val
  let c2_i32_2611 : BitVec 32 := 2#32
  let v4315 : BitVec 32 := Scalar.muli arg1 c2_i32_2611
  let c1_i32_2612 : BitVec 32 := 1#32
  let v4316 : BitVec 32 := Scalar.addi v4315 c1_i32_2612
  let c256_i32_2613 : BitVec 32 := 256#32
  let v4317 : BitVec 32 := Scalar.muli v4316 c256_i32_2613
  let c26_i32_2614 : BitVec 32 := 26#32
  let v4318 : BitVec 32 := Scalar.addi v4317 c26_i32_2614
  let c8_i32_2618 : BitVec 32 := 8#32
  let v4323 : BitVec 32 := Scalar.muli v4318 c8_i32_2618
  v4323
def k0_off3199 (i : grid0.Coords) : Fin 1 → Nat :=
  let c1_i32_2615 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4319 : BitVec 32 := Scalar.subi c1_i32_2615 v9
  ![v4319.toNat]
def k0_off3200 (i : grid0.Coords) : Fin 3 → Nat :=
  let c1_i32_2615 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4319 : BitVec 32 := Scalar.subi c1_i32_2615 v9
  let arg1 : BitVec 32 := BitVec.ofNat 32 (i 1).val
  let c2_i32_2611 : BitVec 32 := 2#32
  let v4315 : BitVec 32 := Scalar.muli arg1 c2_i32_2611
  let c1_i32_2612 : BitVec 32 := 1#32
  let v4316 : BitVec 32 := Scalar.addi v4315 c1_i32_2612
  let c256_i32_2613 : BitVec 32 := 256#32
  let v4317 : BitVec 32 := Scalar.muli v4316 c256_i32_2613
  let c26_i32_2614 : BitVec 32 := 26#32
  let v4318 : BitVec 32 := Scalar.addi v4317 c26_i32_2614
  let c8_i32_2618 : BitVec 32 := 8#32
  let v4323 : BitVec 32 := Scalar.muli v4318 c8_i32_2618
  let v4324 : BitVec 32 := v4323
  let c0_i32_2619 : BitVec 32 := 0#32
  ![v4319.toNat, v4324.toNat, 0]
def k0_off3201 (v4321 : BitVec 32) : Fin 2 → Nat :=
  let v4322 : BitVec 32 := v4321
  let c0_i32_2620 : BitVec 32 := 0#32
  ![v4322.toNat, 0]

def k0_chk796 (i : grid0.Coords) (v4321 : BitVec 32) : Prop :=
  (∀ (k0_h3 : k0_cond3 i = 1#1), 8 ∣ (k0_mult1591 v4321).toNat) ∧
  (∀ (k0_h3 : k0_cond3 i = 1#1), ∀ a, (k0_off3201 v4321) a + S8x128.size a ≤ S131072x128.size a)
theorem k0_mult1591_dvd : ∀ (i : grid0.Coords) (v4321 : BitVec 32) (k0_hw796 : k0_chk796 i v4321), ∀ (k0_h3 : k0_cond3 i = 1#1), 8 ∣ (k0_mult1591 v4321).toNat := fun i v4321 k0_hw796 k0_h3 => k0_hw796.1 k0_h3
theorem k0_off3201_inb : ∀ (i : grid0.Coords) (v4321 : BitVec 32) (k0_hw796 : k0_chk796 i v4321), ∀ (k0_h3 : k0_cond3 i = 1#1), ∀ a, (k0_off3201 v4321) a + S8x128.size a ≤ S131072x128.size a := fun i v4321 k0_hw796 k0_h3 => k0_hw796.2 k0_h3

def k0_off3202 (i : grid0.Coords) : Fin 3 → Nat :=
  let c0_2626 : Index := 0#32
  let c0_2627 : Index := 0#32
  let arg1 : BitVec 32 := BitVec.ofNat 32 (i 1).val
  let c2_i32_2621 : BitVec 32 := 2#32
  let v4330 : BitVec 32 := Scalar.muli arg1 c2_i32_2621
  let c1_i32_2622 : BitVec 32 := 1#32
  let v4331 : BitVec 32 := Scalar.addi v4330 c1_i32_2622
  let c256_i32_2623 : BitVec 32 := 256#32
  let v4332 : BitVec 32 := Scalar.muli v4331 c256_i32_2623
  let c27_i32_2624 : BitVec 32 := 27#32
  let v4333 : BitVec 32 := Scalar.addi v4332 c27_i32_2624
  let v4335 : Index := Scalar.indexCast v4333
  ![0, 0, v4335.toNat]
def k0_mult1593 (v4336 : BitVec 32) : BitVec 32 :=
  v4336

def k0_mult1594 (i : grid0.Coords) : BitVec 32 :=
  let arg1 : BitVec 32 := BitVec.ofNat 32 (i 1).val
  let c2_i32_2621 : BitVec 32 := 2#32
  let v4330 : BitVec 32 := Scalar.muli arg1 c2_i32_2621
  let c1_i32_2622 : BitVec 32 := 1#32
  let v4331 : BitVec 32 := Scalar.addi v4330 c1_i32_2622
  let c256_i32_2623 : BitVec 32 := 256#32
  let v4332 : BitVec 32 := Scalar.muli v4331 c256_i32_2623
  let c27_i32_2624 : BitVec 32 := 27#32
  let v4333 : BitVec 32 := Scalar.addi v4332 c27_i32_2624
  let c8_i32_2628 : BitVec 32 := 8#32
  let v4338 : BitVec 32 := Scalar.muli v4333 c8_i32_2628
  v4338
def k0_off3203 (i : grid0.Coords) : Fin 1 → Nat :=
  let c1_i32_2625 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4334 : BitVec 32 := Scalar.subi c1_i32_2625 v9
  ![v4334.toNat]
def k0_off3204 (i : grid0.Coords) : Fin 3 → Nat :=
  let c1_i32_2625 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4334 : BitVec 32 := Scalar.subi c1_i32_2625 v9
  let arg1 : BitVec 32 := BitVec.ofNat 32 (i 1).val
  let c2_i32_2621 : BitVec 32 := 2#32
  let v4330 : BitVec 32 := Scalar.muli arg1 c2_i32_2621
  let c1_i32_2622 : BitVec 32 := 1#32
  let v4331 : BitVec 32 := Scalar.addi v4330 c1_i32_2622
  let c256_i32_2623 : BitVec 32 := 256#32
  let v4332 : BitVec 32 := Scalar.muli v4331 c256_i32_2623
  let c27_i32_2624 : BitVec 32 := 27#32
  let v4333 : BitVec 32 := Scalar.addi v4332 c27_i32_2624
  let c8_i32_2628 : BitVec 32 := 8#32
  let v4338 : BitVec 32 := Scalar.muli v4333 c8_i32_2628
  let v4339 : BitVec 32 := v4338
  let c0_i32_2629 : BitVec 32 := 0#32
  ![v4334.toNat, v4339.toNat, 0]
def k0_off3205 (v4336 : BitVec 32) : Fin 2 → Nat :=
  let v4337 : BitVec 32 := v4336
  let c0_i32_2630 : BitVec 32 := 0#32
  ![v4337.toNat, 0]

def k0_chk797 (i : grid0.Coords) (v4336 : BitVec 32) : Prop :=
  (∀ (k0_h3 : k0_cond3 i = 1#1), 8 ∣ (k0_mult1593 v4336).toNat) ∧
  (∀ (k0_h3 : k0_cond3 i = 1#1), ∀ a, (k0_off3205 v4336) a + S8x128.size a ≤ S131072x128.size a)
theorem k0_mult1593_dvd : ∀ (i : grid0.Coords) (v4336 : BitVec 32) (k0_hw797 : k0_chk797 i v4336), ∀ (k0_h3 : k0_cond3 i = 1#1), 8 ∣ (k0_mult1593 v4336).toNat := fun i v4336 k0_hw797 k0_h3 => k0_hw797.1 k0_h3
theorem k0_off3205_inb : ∀ (i : grid0.Coords) (v4336 : BitVec 32) (k0_hw797 : k0_chk797 i v4336), ∀ (k0_h3 : k0_cond3 i = 1#1), ∀ a, (k0_off3205 v4336) a + S8x128.size a ≤ S131072x128.size a := fun i v4336 k0_hw797 k0_h3 => k0_hw797.2 k0_h3

def k0_off3206 (i : grid0.Coords) : Fin 3 → Nat :=
  let c0_2636 : Index := 0#32
  let c0_2637 : Index := 0#32
  let arg1 : BitVec 32 := BitVec.ofNat 32 (i 1).val
  let c2_i32_2631 : BitVec 32 := 2#32
  let v4345 : BitVec 32 := Scalar.muli arg1 c2_i32_2631
  let c1_i32_2632 : BitVec 32 := 1#32
  let v4346 : BitVec 32 := Scalar.addi v4345 c1_i32_2632
  let c256_i32_2633 : BitVec 32 := 256#32
  let v4347 : BitVec 32 := Scalar.muli v4346 c256_i32_2633
  let c28_i32_2634 : BitVec 32 := 28#32
  let v4348 : BitVec 32 := Scalar.addi v4347 c28_i32_2634
  let v4350 : Index := Scalar.indexCast v4348
  ![0, 0, v4350.toNat]
def k0_mult1595 (v4351 : BitVec 32) : BitVec 32 :=
  v4351

def k0_mult1596 (i : grid0.Coords) : BitVec 32 :=
  let arg1 : BitVec 32 := BitVec.ofNat 32 (i 1).val
  let c2_i32_2631 : BitVec 32 := 2#32
  let v4345 : BitVec 32 := Scalar.muli arg1 c2_i32_2631
  let c1_i32_2632 : BitVec 32 := 1#32
  let v4346 : BitVec 32 := Scalar.addi v4345 c1_i32_2632
  let c256_i32_2633 : BitVec 32 := 256#32
  let v4347 : BitVec 32 := Scalar.muli v4346 c256_i32_2633
  let c28_i32_2634 : BitVec 32 := 28#32
  let v4348 : BitVec 32 := Scalar.addi v4347 c28_i32_2634
  let c8_i32_2638 : BitVec 32 := 8#32
  let v4353 : BitVec 32 := Scalar.muli v4348 c8_i32_2638
  v4353
def k0_off3207 (i : grid0.Coords) : Fin 1 → Nat :=
  let c1_i32_2635 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4349 : BitVec 32 := Scalar.subi c1_i32_2635 v9
  ![v4349.toNat]
def k0_off3208 (i : grid0.Coords) : Fin 3 → Nat :=
  let c1_i32_2635 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4349 : BitVec 32 := Scalar.subi c1_i32_2635 v9
  let arg1 : BitVec 32 := BitVec.ofNat 32 (i 1).val
  let c2_i32_2631 : BitVec 32 := 2#32
  let v4345 : BitVec 32 := Scalar.muli arg1 c2_i32_2631
  let c1_i32_2632 : BitVec 32 := 1#32
  let v4346 : BitVec 32 := Scalar.addi v4345 c1_i32_2632
  let c256_i32_2633 : BitVec 32 := 256#32
  let v4347 : BitVec 32 := Scalar.muli v4346 c256_i32_2633
  let c28_i32_2634 : BitVec 32 := 28#32
  let v4348 : BitVec 32 := Scalar.addi v4347 c28_i32_2634
  let c8_i32_2638 : BitVec 32 := 8#32
  let v4353 : BitVec 32 := Scalar.muli v4348 c8_i32_2638
  let v4354 : BitVec 32 := v4353
  let c0_i32_2639 : BitVec 32 := 0#32
  ![v4349.toNat, v4354.toNat, 0]
def k0_off3209 (v4351 : BitVec 32) : Fin 2 → Nat :=
  let v4352 : BitVec 32 := v4351
  let c0_i32_2640 : BitVec 32 := 0#32
  ![v4352.toNat, 0]

def k0_chk798 (i : grid0.Coords) (v4351 : BitVec 32) : Prop :=
  (∀ (k0_h3 : k0_cond3 i = 1#1), 8 ∣ (k0_mult1595 v4351).toNat) ∧
  (∀ (k0_h3 : k0_cond3 i = 1#1), ∀ a, (k0_off3209 v4351) a + S8x128.size a ≤ S131072x128.size a)
theorem k0_mult1595_dvd : ∀ (i : grid0.Coords) (v4351 : BitVec 32) (k0_hw798 : k0_chk798 i v4351), ∀ (k0_h3 : k0_cond3 i = 1#1), 8 ∣ (k0_mult1595 v4351).toNat := fun i v4351 k0_hw798 k0_h3 => k0_hw798.1 k0_h3
theorem k0_off3209_inb : ∀ (i : grid0.Coords) (v4351 : BitVec 32) (k0_hw798 : k0_chk798 i v4351), ∀ (k0_h3 : k0_cond3 i = 1#1), ∀ a, (k0_off3209 v4351) a + S8x128.size a ≤ S131072x128.size a := fun i v4351 k0_hw798 k0_h3 => k0_hw798.2 k0_h3

def k0_off3210 (i : grid0.Coords) : Fin 3 → Nat :=
  let c0_2646 : Index := 0#32
  let c0_2647 : Index := 0#32
  let arg1 : BitVec 32 := BitVec.ofNat 32 (i 1).val
  let c2_i32_2641 : BitVec 32 := 2#32
  let v4360 : BitVec 32 := Scalar.muli arg1 c2_i32_2641
  let c1_i32_2642 : BitVec 32 := 1#32
  let v4361 : BitVec 32 := Scalar.addi v4360 c1_i32_2642
  let c256_i32_2643 : BitVec 32 := 256#32
  let v4362 : BitVec 32 := Scalar.muli v4361 c256_i32_2643
  let c29_i32_2644 : BitVec 32 := 29#32
  let v4363 : BitVec 32 := Scalar.addi v4362 c29_i32_2644
  let v4365 : Index := Scalar.indexCast v4363
  ![0, 0, v4365.toNat]
def k0_mult1597 (v4366 : BitVec 32) : BitVec 32 :=
  v4366

def k0_mult1598 (i : grid0.Coords) : BitVec 32 :=
  let arg1 : BitVec 32 := BitVec.ofNat 32 (i 1).val
  let c2_i32_2641 : BitVec 32 := 2#32
  let v4360 : BitVec 32 := Scalar.muli arg1 c2_i32_2641
  let c1_i32_2642 : BitVec 32 := 1#32
  let v4361 : BitVec 32 := Scalar.addi v4360 c1_i32_2642
  let c256_i32_2643 : BitVec 32 := 256#32
  let v4362 : BitVec 32 := Scalar.muli v4361 c256_i32_2643
  let c29_i32_2644 : BitVec 32 := 29#32
  let v4363 : BitVec 32 := Scalar.addi v4362 c29_i32_2644
  let c8_i32_2648 : BitVec 32 := 8#32
  let v4368 : BitVec 32 := Scalar.muli v4363 c8_i32_2648
  v4368
def k0_off3211 (i : grid0.Coords) : Fin 1 → Nat :=
  let c1_i32_2645 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4364 : BitVec 32 := Scalar.subi c1_i32_2645 v9
  ![v4364.toNat]
def k0_off3212 (i : grid0.Coords) : Fin 3 → Nat :=
  let c1_i32_2645 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4364 : BitVec 32 := Scalar.subi c1_i32_2645 v9
  let arg1 : BitVec 32 := BitVec.ofNat 32 (i 1).val
  let c2_i32_2641 : BitVec 32 := 2#32
  let v4360 : BitVec 32 := Scalar.muli arg1 c2_i32_2641
  let c1_i32_2642 : BitVec 32 := 1#32
  let v4361 : BitVec 32 := Scalar.addi v4360 c1_i32_2642
  let c256_i32_2643 : BitVec 32 := 256#32
  let v4362 : BitVec 32 := Scalar.muli v4361 c256_i32_2643
  let c29_i32_2644 : BitVec 32 := 29#32
  let v4363 : BitVec 32 := Scalar.addi v4362 c29_i32_2644
  let c8_i32_2648 : BitVec 32 := 8#32
  let v4368 : BitVec 32 := Scalar.muli v4363 c8_i32_2648
  let v4369 : BitVec 32 := v4368
  let c0_i32_2649 : BitVec 32 := 0#32
  ![v4364.toNat, v4369.toNat, 0]
def k0_off3213 (v4366 : BitVec 32) : Fin 2 → Nat :=
  let v4367 : BitVec 32 := v4366
  let c0_i32_2650 : BitVec 32 := 0#32
  ![v4367.toNat, 0]

def k0_chk799 (i : grid0.Coords) (v4366 : BitVec 32) : Prop :=
  (∀ (k0_h3 : k0_cond3 i = 1#1), 8 ∣ (k0_mult1597 v4366).toNat) ∧
  (∀ (k0_h3 : k0_cond3 i = 1#1), ∀ a, (k0_off3213 v4366) a + S8x128.size a ≤ S131072x128.size a)
theorem k0_mult1597_dvd : ∀ (i : grid0.Coords) (v4366 : BitVec 32) (k0_hw799 : k0_chk799 i v4366), ∀ (k0_h3 : k0_cond3 i = 1#1), 8 ∣ (k0_mult1597 v4366).toNat := fun i v4366 k0_hw799 k0_h3 => k0_hw799.1 k0_h3
theorem k0_off3213_inb : ∀ (i : grid0.Coords) (v4366 : BitVec 32) (k0_hw799 : k0_chk799 i v4366), ∀ (k0_h3 : k0_cond3 i = 1#1), ∀ a, (k0_off3213 v4366) a + S8x128.size a ≤ S131072x128.size a := fun i v4366 k0_hw799 k0_h3 => k0_hw799.2 k0_h3

def k0_off3214 (i : grid0.Coords) : Fin 3 → Nat :=
  let c0_2656 : Index := 0#32
  let c0_2657 : Index := 0#32
  let arg1 : BitVec 32 := BitVec.ofNat 32 (i 1).val
  let c2_i32_2651 : BitVec 32 := 2#32
  let v4375 : BitVec 32 := Scalar.muli arg1 c2_i32_2651
  let c1_i32_2652 : BitVec 32 := 1#32
  let v4376 : BitVec 32 := Scalar.addi v4375 c1_i32_2652
  let c256_i32_2653 : BitVec 32 := 256#32
  let v4377 : BitVec 32 := Scalar.muli v4376 c256_i32_2653
  let c30_i32_2654 : BitVec 32 := 30#32
  let v4378 : BitVec 32 := Scalar.addi v4377 c30_i32_2654
  let v4380 : Index := Scalar.indexCast v4378
  ![0, 0, v4380.toNat]
def k0_mult1599 (v4381 : BitVec 32) : BitVec 32 :=
  v4381

def k0_mult1600 (i : grid0.Coords) : BitVec 32 :=
  let arg1 : BitVec 32 := BitVec.ofNat 32 (i 1).val
  let c2_i32_2651 : BitVec 32 := 2#32
  let v4375 : BitVec 32 := Scalar.muli arg1 c2_i32_2651
  let c1_i32_2652 : BitVec 32 := 1#32
  let v4376 : BitVec 32 := Scalar.addi v4375 c1_i32_2652
  let c256_i32_2653 : BitVec 32 := 256#32
  let v4377 : BitVec 32 := Scalar.muli v4376 c256_i32_2653
  let c30_i32_2654 : BitVec 32 := 30#32
  let v4378 : BitVec 32 := Scalar.addi v4377 c30_i32_2654
  let c8_i32_2658 : BitVec 32 := 8#32
  let v4383 : BitVec 32 := Scalar.muli v4378 c8_i32_2658
  v4383
def k0_off3215 (i : grid0.Coords) : Fin 1 → Nat :=
  let c1_i32_2655 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4379 : BitVec 32 := Scalar.subi c1_i32_2655 v9
  ![v4379.toNat]
def k0_off3216 (i : grid0.Coords) : Fin 3 → Nat :=
  let c1_i32_2655 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4379 : BitVec 32 := Scalar.subi c1_i32_2655 v9
  let arg1 : BitVec 32 := BitVec.ofNat 32 (i 1).val
  let c2_i32_2651 : BitVec 32 := 2#32
  let v4375 : BitVec 32 := Scalar.muli arg1 c2_i32_2651
  let c1_i32_2652 : BitVec 32 := 1#32
  let v4376 : BitVec 32 := Scalar.addi v4375 c1_i32_2652
  let c256_i32_2653 : BitVec 32 := 256#32
  let v4377 : BitVec 32 := Scalar.muli v4376 c256_i32_2653
  let c30_i32_2654 : BitVec 32 := 30#32
  let v4378 : BitVec 32 := Scalar.addi v4377 c30_i32_2654
  let c8_i32_2658 : BitVec 32 := 8#32
  let v4383 : BitVec 32 := Scalar.muli v4378 c8_i32_2658
  let v4384 : BitVec 32 := v4383
  let c0_i32_2659 : BitVec 32 := 0#32
  ![v4379.toNat, v4384.toNat, 0]
def k0_off3217 (v4381 : BitVec 32) : Fin 2 → Nat :=
  let v4382 : BitVec 32 := v4381
  let c0_i32_2660 : BitVec 32 := 0#32
  ![v4382.toNat, 0]

def k0_chk800 (i : grid0.Coords) (v4381 : BitVec 32) : Prop :=
  (∀ (k0_h3 : k0_cond3 i = 1#1), 8 ∣ (k0_mult1599 v4381).toNat) ∧
  (∀ (k0_h3 : k0_cond3 i = 1#1), ∀ a, (k0_off3217 v4381) a + S8x128.size a ≤ S131072x128.size a)
theorem k0_mult1599_dvd : ∀ (i : grid0.Coords) (v4381 : BitVec 32) (k0_hw800 : k0_chk800 i v4381), ∀ (k0_h3 : k0_cond3 i = 1#1), 8 ∣ (k0_mult1599 v4381).toNat := fun i v4381 k0_hw800 k0_h3 => k0_hw800.1 k0_h3
theorem k0_off3217_inb : ∀ (i : grid0.Coords) (v4381 : BitVec 32) (k0_hw800 : k0_chk800 i v4381), ∀ (k0_h3 : k0_cond3 i = 1#1), ∀ a, (k0_off3217 v4381) a + S8x128.size a ≤ S131072x128.size a := fun i v4381 k0_hw800 k0_h3 => k0_hw800.2 k0_h3

def k0_off3218 (i : grid0.Coords) : Fin 3 → Nat :=
  let c0_2666 : Index := 0#32
  let c0_2667 : Index := 0#32
  let arg1 : BitVec 32 := BitVec.ofNat 32 (i 1).val
  let c2_i32_2661 : BitVec 32 := 2#32
  let v4390 : BitVec 32 := Scalar.muli arg1 c2_i32_2661
  let c1_i32_2662 : BitVec 32 := 1#32
  let v4391 : BitVec 32 := Scalar.addi v4390 c1_i32_2662
  let c256_i32_2663 : BitVec 32 := 256#32
  let v4392 : BitVec 32 := Scalar.muli v4391 c256_i32_2663
  let c31_i32_2664 : BitVec 32 := 31#32
  let v4393 : BitVec 32 := Scalar.addi v4392 c31_i32_2664
  let v4395 : Index := Scalar.indexCast v4393
  ![0, 0, v4395.toNat]
def k0_mult1601 (v4396 : BitVec 32) : BitVec 32 :=
  v4396

def k0_mult1602 (i : grid0.Coords) : BitVec 32 :=
  let arg1 : BitVec 32 := BitVec.ofNat 32 (i 1).val
  let c2_i32_2661 : BitVec 32 := 2#32
  let v4390 : BitVec 32 := Scalar.muli arg1 c2_i32_2661
  let c1_i32_2662 : BitVec 32 := 1#32
  let v4391 : BitVec 32 := Scalar.addi v4390 c1_i32_2662
  let c256_i32_2663 : BitVec 32 := 256#32
  let v4392 : BitVec 32 := Scalar.muli v4391 c256_i32_2663
  let c31_i32_2664 : BitVec 32 := 31#32
  let v4393 : BitVec 32 := Scalar.addi v4392 c31_i32_2664
  let c8_i32_2668 : BitVec 32 := 8#32
  let v4398 : BitVec 32 := Scalar.muli v4393 c8_i32_2668
  v4398
def k0_off3219 (i : grid0.Coords) : Fin 1 → Nat :=
  let c1_i32_2665 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4394 : BitVec 32 := Scalar.subi c1_i32_2665 v9
  ![v4394.toNat]
def k0_off3220 (i : grid0.Coords) : Fin 3 → Nat :=
  let c1_i32_2665 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4394 : BitVec 32 := Scalar.subi c1_i32_2665 v9
  let arg1 : BitVec 32 := BitVec.ofNat 32 (i 1).val
  let c2_i32_2661 : BitVec 32 := 2#32
  let v4390 : BitVec 32 := Scalar.muli arg1 c2_i32_2661
  let c1_i32_2662 : BitVec 32 := 1#32
  let v4391 : BitVec 32 := Scalar.addi v4390 c1_i32_2662
  let c256_i32_2663 : BitVec 32 := 256#32
  let v4392 : BitVec 32 := Scalar.muli v4391 c256_i32_2663
  let c31_i32_2664 : BitVec 32 := 31#32
  let v4393 : BitVec 32 := Scalar.addi v4392 c31_i32_2664
  let c8_i32_2668 : BitVec 32 := 8#32
  let v4398 : BitVec 32 := Scalar.muli v4393 c8_i32_2668
  let v4399 : BitVec 32 := v4398
  let c0_i32_2669 : BitVec 32 := 0#32
  ![v4394.toNat, v4399.toNat, 0]
def k0_off3221 (v4396 : BitVec 32) : Fin 2 → Nat :=
  let v4397 : BitVec 32 := v4396
  let c0_i32_2670 : BitVec 32 := 0#32
  ![v4397.toNat, 0]

def k0_chk801 (i : grid0.Coords) (v4396 : BitVec 32) : Prop :=
  (∀ (k0_h3 : k0_cond3 i = 1#1), 8 ∣ (k0_mult1601 v4396).toNat) ∧
  (∀ (k0_h3 : k0_cond3 i = 1#1), ∀ a, (k0_off3221 v4396) a + S8x128.size a ≤ S131072x128.size a)
theorem k0_mult1601_dvd : ∀ (i : grid0.Coords) (v4396 : BitVec 32) (k0_hw801 : k0_chk801 i v4396), ∀ (k0_h3 : k0_cond3 i = 1#1), 8 ∣ (k0_mult1601 v4396).toNat := fun i v4396 k0_hw801 k0_h3 => k0_hw801.1 k0_h3
theorem k0_off3221_inb : ∀ (i : grid0.Coords) (v4396 : BitVec 32) (k0_hw801 : k0_chk801 i v4396), ∀ (k0_h3 : k0_cond3 i = 1#1), ∀ a, (k0_off3221 v4396) a + S8x128.size a ≤ S131072x128.size a := fun i v4396 k0_hw801 k0_h3 => k0_hw801.2 k0_h3

def k0_off3222 (i : grid0.Coords) : Fin 3 → Nat :=
  let c0_2676 : Index := 0#32
  let c0_2677 : Index := 0#32
  let arg1 : BitVec 32 := BitVec.ofNat 32 (i 1).val
  let c2_i32_2671 : BitVec 32 := 2#32
  let v4405 : BitVec 32 := Scalar.muli arg1 c2_i32_2671
  let c1_i32_2672 : BitVec 32 := 1#32
  let v4406 : BitVec 32 := Scalar.addi v4405 c1_i32_2672
  let c256_i32_2673 : BitVec 32 := 256#32
  let v4407 : BitVec 32 := Scalar.muli v4406 c256_i32_2673
  let c32_i32_2674 : BitVec 32 := 32#32
  let v4408 : BitVec 32 := Scalar.addi v4407 c32_i32_2674
  let v4410 : Index := Scalar.indexCast v4408
  ![0, 0, v4410.toNat]
def k0_mult1603 (v4411 : BitVec 32) : BitVec 32 :=
  v4411

def k0_mult1604 (i : grid0.Coords) : BitVec 32 :=
  let arg1 : BitVec 32 := BitVec.ofNat 32 (i 1).val
  let c2_i32_2671 : BitVec 32 := 2#32
  let v4405 : BitVec 32 := Scalar.muli arg1 c2_i32_2671
  let c1_i32_2672 : BitVec 32 := 1#32
  let v4406 : BitVec 32 := Scalar.addi v4405 c1_i32_2672
  let c256_i32_2673 : BitVec 32 := 256#32
  let v4407 : BitVec 32 := Scalar.muli v4406 c256_i32_2673
  let c32_i32_2674 : BitVec 32 := 32#32
  let v4408 : BitVec 32 := Scalar.addi v4407 c32_i32_2674
  let c8_i32_2678 : BitVec 32 := 8#32
  let v4413 : BitVec 32 := Scalar.muli v4408 c8_i32_2678
  v4413
def k0_off3223 (i : grid0.Coords) : Fin 1 → Nat :=
  let c1_i32_2675 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4409 : BitVec 32 := Scalar.subi c1_i32_2675 v9
  ![v4409.toNat]
def k0_off3224 (i : grid0.Coords) : Fin 3 → Nat :=
  let c1_i32_2675 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4409 : BitVec 32 := Scalar.subi c1_i32_2675 v9
  let arg1 : BitVec 32 := BitVec.ofNat 32 (i 1).val
  let c2_i32_2671 : BitVec 32 := 2#32
  let v4405 : BitVec 32 := Scalar.muli arg1 c2_i32_2671
  let c1_i32_2672 : BitVec 32 := 1#32
  let v4406 : BitVec 32 := Scalar.addi v4405 c1_i32_2672
  let c256_i32_2673 : BitVec 32 := 256#32
  let v4407 : BitVec 32 := Scalar.muli v4406 c256_i32_2673
  let c32_i32_2674 : BitVec 32 := 32#32
  let v4408 : BitVec 32 := Scalar.addi v4407 c32_i32_2674
  let c8_i32_2678 : BitVec 32 := 8#32
  let v4413 : BitVec 32 := Scalar.muli v4408 c8_i32_2678
  let v4414 : BitVec 32 := v4413
  let c0_i32_2679 : BitVec 32 := 0#32
  ![v4409.toNat, v4414.toNat, 0]
def k0_off3225 (v4411 : BitVec 32) : Fin 2 → Nat :=
  let v4412 : BitVec 32 := v4411
  let c0_i32_2680 : BitVec 32 := 0#32
  ![v4412.toNat, 0]

def k0_chk802 (i : grid0.Coords) (v4411 : BitVec 32) : Prop :=
  (∀ (k0_h3 : k0_cond3 i = 1#1), 8 ∣ (k0_mult1603 v4411).toNat) ∧
  (∀ (k0_h3 : k0_cond3 i = 1#1), ∀ a, (k0_off3225 v4411) a + S8x128.size a ≤ S131072x128.size a)
theorem k0_mult1603_dvd : ∀ (i : grid0.Coords) (v4411 : BitVec 32) (k0_hw802 : k0_chk802 i v4411), ∀ (k0_h3 : k0_cond3 i = 1#1), 8 ∣ (k0_mult1603 v4411).toNat := fun i v4411 k0_hw802 k0_h3 => k0_hw802.1 k0_h3
theorem k0_off3225_inb : ∀ (i : grid0.Coords) (v4411 : BitVec 32) (k0_hw802 : k0_chk802 i v4411), ∀ (k0_h3 : k0_cond3 i = 1#1), ∀ a, (k0_off3225 v4411) a + S8x128.size a ≤ S131072x128.size a := fun i v4411 k0_hw802 k0_h3 => k0_hw802.2 k0_h3

def k0_off3226 (i : grid0.Coords) : Fin 3 → Nat :=
  let c0_2686 : Index := 0#32
  let c0_2687 : Index := 0#32
  let arg1 : BitVec 32 := BitVec.ofNat 32 (i 1).val
  let c2_i32_2681 : BitVec 32 := 2#32
  let v4420 : BitVec 32 := Scalar.muli arg1 c2_i32_2681
  let c1_i32_2682 : BitVec 32 := 1#32
  let v4421 : BitVec 32 := Scalar.addi v4420 c1_i32_2682
  let c256_i32_2683 : BitVec 32 := 256#32
  let v4422 : BitVec 32 := Scalar.muli v4421 c256_i32_2683
  let c33_i32_2684 : BitVec 32 := 33#32
  let v4423 : BitVec 32 := Scalar.addi v4422 c33_i32_2684
  let v4425 : Index := Scalar.indexCast v4423
  ![0, 0, v4425.toNat]
def k0_mult1605 (v4426 : BitVec 32) : BitVec 32 :=
  v4426

def k0_mult1606 (i : grid0.Coords) : BitVec 32 :=
  let arg1 : BitVec 32 := BitVec.ofNat 32 (i 1).val
  let c2_i32_2681 : BitVec 32 := 2#32
  let v4420 : BitVec 32 := Scalar.muli arg1 c2_i32_2681
  let c1_i32_2682 : BitVec 32 := 1#32
  let v4421 : BitVec 32 := Scalar.addi v4420 c1_i32_2682
  let c256_i32_2683 : BitVec 32 := 256#32
  let v4422 : BitVec 32 := Scalar.muli v4421 c256_i32_2683
  let c33_i32_2684 : BitVec 32 := 33#32
  let v4423 : BitVec 32 := Scalar.addi v4422 c33_i32_2684
  let c8_i32_2688 : BitVec 32 := 8#32
  let v4428 : BitVec 32 := Scalar.muli v4423 c8_i32_2688
  v4428
def k0_off3227 (i : grid0.Coords) : Fin 1 → Nat :=
  let c1_i32_2685 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4424 : BitVec 32 := Scalar.subi c1_i32_2685 v9
  ![v4424.toNat]
def k0_off3228 (i : grid0.Coords) : Fin 3 → Nat :=
  let c1_i32_2685 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4424 : BitVec 32 := Scalar.subi c1_i32_2685 v9
  let arg1 : BitVec 32 := BitVec.ofNat 32 (i 1).val
  let c2_i32_2681 : BitVec 32 := 2#32
  let v4420 : BitVec 32 := Scalar.muli arg1 c2_i32_2681
  let c1_i32_2682 : BitVec 32 := 1#32
  let v4421 : BitVec 32 := Scalar.addi v4420 c1_i32_2682
  let c256_i32_2683 : BitVec 32 := 256#32
  let v4422 : BitVec 32 := Scalar.muli v4421 c256_i32_2683
  let c33_i32_2684 : BitVec 32 := 33#32
  let v4423 : BitVec 32 := Scalar.addi v4422 c33_i32_2684
  let c8_i32_2688 : BitVec 32 := 8#32
  let v4428 : BitVec 32 := Scalar.muli v4423 c8_i32_2688
  let v4429 : BitVec 32 := v4428
  let c0_i32_2689 : BitVec 32 := 0#32
  ![v4424.toNat, v4429.toNat, 0]
def k0_off3229 (v4426 : BitVec 32) : Fin 2 → Nat :=
  let v4427 : BitVec 32 := v4426
  let c0_i32_2690 : BitVec 32 := 0#32
  ![v4427.toNat, 0]

def k0_chk803 (i : grid0.Coords) (v4426 : BitVec 32) : Prop :=
  (∀ (k0_h3 : k0_cond3 i = 1#1), 8 ∣ (k0_mult1605 v4426).toNat) ∧
  (∀ (k0_h3 : k0_cond3 i = 1#1), ∀ a, (k0_off3229 v4426) a + S8x128.size a ≤ S131072x128.size a)
theorem k0_mult1605_dvd : ∀ (i : grid0.Coords) (v4426 : BitVec 32) (k0_hw803 : k0_chk803 i v4426), ∀ (k0_h3 : k0_cond3 i = 1#1), 8 ∣ (k0_mult1605 v4426).toNat := fun i v4426 k0_hw803 k0_h3 => k0_hw803.1 k0_h3
theorem k0_off3229_inb : ∀ (i : grid0.Coords) (v4426 : BitVec 32) (k0_hw803 : k0_chk803 i v4426), ∀ (k0_h3 : k0_cond3 i = 1#1), ∀ a, (k0_off3229 v4426) a + S8x128.size a ≤ S131072x128.size a := fun i v4426 k0_hw803 k0_h3 => k0_hw803.2 k0_h3

def k0_off3230 (i : grid0.Coords) : Fin 3 → Nat :=
  let c0_2696 : Index := 0#32
  let c0_2697 : Index := 0#32
  let arg1 : BitVec 32 := BitVec.ofNat 32 (i 1).val
  let c2_i32_2691 : BitVec 32 := 2#32
  let v4435 : BitVec 32 := Scalar.muli arg1 c2_i32_2691
  let c1_i32_2692 : BitVec 32 := 1#32
  let v4436 : BitVec 32 := Scalar.addi v4435 c1_i32_2692
  let c256_i32_2693 : BitVec 32 := 256#32
  let v4437 : BitVec 32 := Scalar.muli v4436 c256_i32_2693
  let c34_i32_2694 : BitVec 32 := 34#32
  let v4438 : BitVec 32 := Scalar.addi v4437 c34_i32_2694
  let v4440 : Index := Scalar.indexCast v4438
  ![0, 0, v4440.toNat]
def k0_mult1607 (v4441 : BitVec 32) : BitVec 32 :=
  v4441

def k0_mult1608 (i : grid0.Coords) : BitVec 32 :=
  let arg1 : BitVec 32 := BitVec.ofNat 32 (i 1).val
  let c2_i32_2691 : BitVec 32 := 2#32
  let v4435 : BitVec 32 := Scalar.muli arg1 c2_i32_2691
  let c1_i32_2692 : BitVec 32 := 1#32
  let v4436 : BitVec 32 := Scalar.addi v4435 c1_i32_2692
  let c256_i32_2693 : BitVec 32 := 256#32
  let v4437 : BitVec 32 := Scalar.muli v4436 c256_i32_2693
  let c34_i32_2694 : BitVec 32 := 34#32
  let v4438 : BitVec 32 := Scalar.addi v4437 c34_i32_2694
  let c8_i32_2698 : BitVec 32 := 8#32
  let v4443 : BitVec 32 := Scalar.muli v4438 c8_i32_2698
  v4443
def k0_off3231 (i : grid0.Coords) : Fin 1 → Nat :=
  let c1_i32_2695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4439 : BitVec 32 := Scalar.subi c1_i32_2695 v9
  ![v4439.toNat]
def k0_off3232 (i : grid0.Coords) : Fin 3 → Nat :=
  let c1_i32_2695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4439 : BitVec 32 := Scalar.subi c1_i32_2695 v9
  let arg1 : BitVec 32 := BitVec.ofNat 32 (i 1).val
  let c2_i32_2691 : BitVec 32 := 2#32
  let v4435 : BitVec 32 := Scalar.muli arg1 c2_i32_2691
  let c1_i32_2692 : BitVec 32 := 1#32
  let v4436 : BitVec 32 := Scalar.addi v4435 c1_i32_2692
  let c256_i32_2693 : BitVec 32 := 256#32
  let v4437 : BitVec 32 := Scalar.muli v4436 c256_i32_2693
  let c34_i32_2694 : BitVec 32 := 34#32
  let v4438 : BitVec 32 := Scalar.addi v4437 c34_i32_2694
  let c8_i32_2698 : BitVec 32 := 8#32
  let v4443 : BitVec 32 := Scalar.muli v4438 c8_i32_2698
  let v4444 : BitVec 32 := v4443
  let c0_i32_2699 : BitVec 32 := 0#32
  ![v4439.toNat, v4444.toNat, 0]
def k0_off3233 (v4441 : BitVec 32) : Fin 2 → Nat :=
  let v4442 : BitVec 32 := v4441
  let c0_i32_2700 : BitVec 32 := 0#32
  ![v4442.toNat, 0]

def k0_chk804 (i : grid0.Coords) (v4441 : BitVec 32) : Prop :=
  (∀ (k0_h3 : k0_cond3 i = 1#1), 8 ∣ (k0_mult1607 v4441).toNat) ∧
  (∀ (k0_h3 : k0_cond3 i = 1#1), ∀ a, (k0_off3233 v4441) a + S8x128.size a ≤ S131072x128.size a)
theorem k0_mult1607_dvd : ∀ (i : grid0.Coords) (v4441 : BitVec 32) (k0_hw804 : k0_chk804 i v4441), ∀ (k0_h3 : k0_cond3 i = 1#1), 8 ∣ (k0_mult1607 v4441).toNat := fun i v4441 k0_hw804 k0_h3 => k0_hw804.1 k0_h3
theorem k0_off3233_inb : ∀ (i : grid0.Coords) (v4441 : BitVec 32) (k0_hw804 : k0_chk804 i v4441), ∀ (k0_h3 : k0_cond3 i = 1#1), ∀ a, (k0_off3233 v4441) a + S8x128.size a ≤ S131072x128.size a := fun i v4441 k0_hw804 k0_h3 => k0_hw804.2 k0_h3

def k0_off3234 (i : grid0.Coords) : Fin 3 → Nat :=
  let c0_2706 : Index := 0#32
  let c0_2707 : Index := 0#32
  let arg1 : BitVec 32 := BitVec.ofNat 32 (i 1).val
  let c2_i32_2701 : BitVec 32 := 2#32
  let v4450 : BitVec 32 := Scalar.muli arg1 c2_i32_2701
  let c1_i32_2702 : BitVec 32 := 1#32
  let v4451 : BitVec 32 := Scalar.addi v4450 c1_i32_2702
  let c256_i32_2703 : BitVec 32 := 256#32
  let v4452 : BitVec 32 := Scalar.muli v4451 c256_i32_2703
  let c35_i32_2704 : BitVec 32 := 35#32
  let v4453 : BitVec 32 := Scalar.addi v4452 c35_i32_2704
  let v4455 : Index := Scalar.indexCast v4453
  ![0, 0, v4455.toNat]
def k0_mult1609 (v4456 : BitVec 32) : BitVec 32 :=
  v4456

def k0_mult1610 (i : grid0.Coords) : BitVec 32 :=
  let arg1 : BitVec 32 := BitVec.ofNat 32 (i 1).val
  let c2_i32_2701 : BitVec 32 := 2#32
  let v4450 : BitVec 32 := Scalar.muli arg1 c2_i32_2701
  let c1_i32_2702 : BitVec 32 := 1#32
  let v4451 : BitVec 32 := Scalar.addi v4450 c1_i32_2702
  let c256_i32_2703 : BitVec 32 := 256#32
  let v4452 : BitVec 32 := Scalar.muli v4451 c256_i32_2703
  let c35_i32_2704 : BitVec 32 := 35#32
  let v4453 : BitVec 32 := Scalar.addi v4452 c35_i32_2704
  let c8_i32_2708 : BitVec 32 := 8#32
  let v4458 : BitVec 32 := Scalar.muli v4453 c8_i32_2708
  v4458
def k0_off3235 (i : grid0.Coords) : Fin 1 → Nat :=
  let c1_i32_2705 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4454 : BitVec 32 := Scalar.subi c1_i32_2705 v9
  ![v4454.toNat]
def k0_off3236 (i : grid0.Coords) : Fin 3 → Nat :=
  let c1_i32_2705 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4454 : BitVec 32 := Scalar.subi c1_i32_2705 v9
  let arg1 : BitVec 32 := BitVec.ofNat 32 (i 1).val
  let c2_i32_2701 : BitVec 32 := 2#32
  let v4450 : BitVec 32 := Scalar.muli arg1 c2_i32_2701
  let c1_i32_2702 : BitVec 32 := 1#32
  let v4451 : BitVec 32 := Scalar.addi v4450 c1_i32_2702
  let c256_i32_2703 : BitVec 32 := 256#32
  let v4452 : BitVec 32 := Scalar.muli v4451 c256_i32_2703
  let c35_i32_2704 : BitVec 32 := 35#32
  let v4453 : BitVec 32 := Scalar.addi v4452 c35_i32_2704
  let c8_i32_2708 : BitVec 32 := 8#32
  let v4458 : BitVec 32 := Scalar.muli v4453 c8_i32_2708
  let v4459 : BitVec 32 := v4458
  let c0_i32_2709 : BitVec 32 := 0#32
  ![v4454.toNat, v4459.toNat, 0]
def k0_off3237 (v4456 : BitVec 32) : Fin 2 → Nat :=
  let v4457 : BitVec 32 := v4456
  let c0_i32_2710 : BitVec 32 := 0#32
  ![v4457.toNat, 0]

def k0_chk805 (i : grid0.Coords) (v4456 : BitVec 32) : Prop :=
  (∀ (k0_h3 : k0_cond3 i = 1#1), 8 ∣ (k0_mult1609 v4456).toNat) ∧
  (∀ (k0_h3 : k0_cond3 i = 1#1), ∀ a, (k0_off3237 v4456) a + S8x128.size a ≤ S131072x128.size a)
theorem k0_mult1609_dvd : ∀ (i : grid0.Coords) (v4456 : BitVec 32) (k0_hw805 : k0_chk805 i v4456), ∀ (k0_h3 : k0_cond3 i = 1#1), 8 ∣ (k0_mult1609 v4456).toNat := fun i v4456 k0_hw805 k0_h3 => k0_hw805.1 k0_h3
theorem k0_off3237_inb : ∀ (i : grid0.Coords) (v4456 : BitVec 32) (k0_hw805 : k0_chk805 i v4456), ∀ (k0_h3 : k0_cond3 i = 1#1), ∀ a, (k0_off3237 v4456) a + S8x128.size a ≤ S131072x128.size a := fun i v4456 k0_hw805 k0_h3 => k0_hw805.2 k0_h3

def k0_off3238 (i : grid0.Coords) : Fin 3 → Nat :=
  let c0_2716 : Index := 0#32
  let c0_2717 : Index := 0#32
  let arg1 : BitVec 32 := BitVec.ofNat 32 (i 1).val
  let c2_i32_2711 : BitVec 32 := 2#32
  let v4465 : BitVec 32 := Scalar.muli arg1 c2_i32_2711
  let c1_i32_2712 : BitVec 32 := 1#32
  let v4466 : BitVec 32 := Scalar.addi v4465 c1_i32_2712
  let c256_i32_2713 : BitVec 32 := 256#32
  let v4467 : BitVec 32 := Scalar.muli v4466 c256_i32_2713
  let c36_i32_2714 : BitVec 32 := 36#32
  let v4468 : BitVec 32 := Scalar.addi v4467 c36_i32_2714
  let v4470 : Index := Scalar.indexCast v4468
  ![0, 0, v4470.toNat]
def k0_mult1611 (v4471 : BitVec 32) : BitVec 32 :=
  v4471

def k0_mult1612 (i : grid0.Coords) : BitVec 32 :=
  let arg1 : BitVec 32 := BitVec.ofNat 32 (i 1).val
  let c2_i32_2711 : BitVec 32 := 2#32
  let v4465 : BitVec 32 := Scalar.muli arg1 c2_i32_2711
  let c1_i32_2712 : BitVec 32 := 1#32
  let v4466 : BitVec 32 := Scalar.addi v4465 c1_i32_2712
  let c256_i32_2713 : BitVec 32 := 256#32
  let v4467 : BitVec 32 := Scalar.muli v4466 c256_i32_2713
  let c36_i32_2714 : BitVec 32 := 36#32
  let v4468 : BitVec 32 := Scalar.addi v4467 c36_i32_2714
  let c8_i32_2718 : BitVec 32 := 8#32
  let v4473 : BitVec 32 := Scalar.muli v4468 c8_i32_2718
  v4473
def k0_off3239 (i : grid0.Coords) : Fin 1 → Nat :=
  let c1_i32_2715 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4469 : BitVec 32 := Scalar.subi c1_i32_2715 v9
  ![v4469.toNat]
def k0_off3240 (i : grid0.Coords) : Fin 3 → Nat :=
  let c1_i32_2715 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4469 : BitVec 32 := Scalar.subi c1_i32_2715 v9
  let arg1 : BitVec 32 := BitVec.ofNat 32 (i 1).val
  let c2_i32_2711 : BitVec 32 := 2#32
  let v4465 : BitVec 32 := Scalar.muli arg1 c2_i32_2711
  let c1_i32_2712 : BitVec 32 := 1#32
  let v4466 : BitVec 32 := Scalar.addi v4465 c1_i32_2712
  let c256_i32_2713 : BitVec 32 := 256#32
  let v4467 : BitVec 32 := Scalar.muli v4466 c256_i32_2713
  let c36_i32_2714 : BitVec 32 := 36#32
  let v4468 : BitVec 32 := Scalar.addi v4467 c36_i32_2714
  let c8_i32_2718 : BitVec 32 := 8#32
  let v4473 : BitVec 32 := Scalar.muli v4468 c8_i32_2718
  let v4474 : BitVec 32 := v4473
  let c0_i32_2719 : BitVec 32 := 0#32
  ![v4469.toNat, v4474.toNat, 0]
def k0_off3241 (v4471 : BitVec 32) : Fin 2 → Nat :=
  let v4472 : BitVec 32 := v4471
  let c0_i32_2720 : BitVec 32 := 0#32
  ![v4472.toNat, 0]

def k0_chk806 (i : grid0.Coords) (v4471 : BitVec 32) : Prop :=
  (∀ (k0_h3 : k0_cond3 i = 1#1), 8 ∣ (k0_mult1611 v4471).toNat) ∧
  (∀ (k0_h3 : k0_cond3 i = 1#1), ∀ a, (k0_off3241 v4471) a + S8x128.size a ≤ S131072x128.size a)
theorem k0_mult1611_dvd : ∀ (i : grid0.Coords) (v4471 : BitVec 32) (k0_hw806 : k0_chk806 i v4471), ∀ (k0_h3 : k0_cond3 i = 1#1), 8 ∣ (k0_mult1611 v4471).toNat := fun i v4471 k0_hw806 k0_h3 => k0_hw806.1 k0_h3
theorem k0_off3241_inb : ∀ (i : grid0.Coords) (v4471 : BitVec 32) (k0_hw806 : k0_chk806 i v4471), ∀ (k0_h3 : k0_cond3 i = 1#1), ∀ a, (k0_off3241 v4471) a + S8x128.size a ≤ S131072x128.size a := fun i v4471 k0_hw806 k0_h3 => k0_hw806.2 k0_h3

def k0_off3242 (i : grid0.Coords) : Fin 3 → Nat :=
  let c0_2726 : Index := 0#32
  let c0_2727 : Index := 0#32
  let arg1 : BitVec 32 := BitVec.ofNat 32 (i 1).val
  let c2_i32_2721 : BitVec 32 := 2#32
  let v4480 : BitVec 32 := Scalar.muli arg1 c2_i32_2721
  let c1_i32_2722 : BitVec 32 := 1#32
  let v4481 : BitVec 32 := Scalar.addi v4480 c1_i32_2722
  let c256_i32_2723 : BitVec 32 := 256#32
  let v4482 : BitVec 32 := Scalar.muli v4481 c256_i32_2723
  let c37_i32_2724 : BitVec 32 := 37#32
  let v4483 : BitVec 32 := Scalar.addi v4482 c37_i32_2724
  let v4485 : Index := Scalar.indexCast v4483
  ![0, 0, v4485.toNat]
def k0_mult1613 (v4486 : BitVec 32) : BitVec 32 :=
  v4486

def k0_mult1614 (i : grid0.Coords) : BitVec 32 :=
  let arg1 : BitVec 32 := BitVec.ofNat 32 (i 1).val
  let c2_i32_2721 : BitVec 32 := 2#32
  let v4480 : BitVec 32 := Scalar.muli arg1 c2_i32_2721
  let c1_i32_2722 : BitVec 32 := 1#32
  let v4481 : BitVec 32 := Scalar.addi v4480 c1_i32_2722
  let c256_i32_2723 : BitVec 32 := 256#32
  let v4482 : BitVec 32 := Scalar.muli v4481 c256_i32_2723
  let c37_i32_2724 : BitVec 32 := 37#32
  let v4483 : BitVec 32 := Scalar.addi v4482 c37_i32_2724
  let c8_i32_2728 : BitVec 32 := 8#32
  let v4488 : BitVec 32 := Scalar.muli v4483 c8_i32_2728
  v4488
def k0_off3243 (i : grid0.Coords) : Fin 1 → Nat :=
  let c1_i32_2725 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4484 : BitVec 32 := Scalar.subi c1_i32_2725 v9
  ![v4484.toNat]
def k0_off3244 (i : grid0.Coords) : Fin 3 → Nat :=
  let c1_i32_2725 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4484 : BitVec 32 := Scalar.subi c1_i32_2725 v9
  let arg1 : BitVec 32 := BitVec.ofNat 32 (i 1).val
  let c2_i32_2721 : BitVec 32 := 2#32
  let v4480 : BitVec 32 := Scalar.muli arg1 c2_i32_2721
  let c1_i32_2722 : BitVec 32 := 1#32
  let v4481 : BitVec 32 := Scalar.addi v4480 c1_i32_2722
  let c256_i32_2723 : BitVec 32 := 256#32
  let v4482 : BitVec 32 := Scalar.muli v4481 c256_i32_2723
  let c37_i32_2724 : BitVec 32 := 37#32
  let v4483 : BitVec 32 := Scalar.addi v4482 c37_i32_2724
  let c8_i32_2728 : BitVec 32 := 8#32
  let v4488 : BitVec 32 := Scalar.muli v4483 c8_i32_2728
  let v4489 : BitVec 32 := v4488
  let c0_i32_2729 : BitVec 32 := 0#32
  ![v4484.toNat, v4489.toNat, 0]
def k0_off3245 (v4486 : BitVec 32) : Fin 2 → Nat :=
  let v4487 : BitVec 32 := v4486
  let c0_i32_2730 : BitVec 32 := 0#32
  ![v4487.toNat, 0]

def k0_chk807 (i : grid0.Coords) (v4486 : BitVec 32) : Prop :=
  (∀ (k0_h3 : k0_cond3 i = 1#1), 8 ∣ (k0_mult1613 v4486).toNat) ∧
  (∀ (k0_h3 : k0_cond3 i = 1#1), ∀ a, (k0_off3245 v4486) a + S8x128.size a ≤ S131072x128.size a)
theorem k0_mult1613_dvd : ∀ (i : grid0.Coords) (v4486 : BitVec 32) (k0_hw807 : k0_chk807 i v4486), ∀ (k0_h3 : k0_cond3 i = 1#1), 8 ∣ (k0_mult1613 v4486).toNat := fun i v4486 k0_hw807 k0_h3 => k0_hw807.1 k0_h3
theorem k0_off3245_inb : ∀ (i : grid0.Coords) (v4486 : BitVec 32) (k0_hw807 : k0_chk807 i v4486), ∀ (k0_h3 : k0_cond3 i = 1#1), ∀ a, (k0_off3245 v4486) a + S8x128.size a ≤ S131072x128.size a := fun i v4486 k0_hw807 k0_h3 => k0_hw807.2 k0_h3

def k0_off3246 (i : grid0.Coords) : Fin 3 → Nat :=
  let c0_2736 : Index := 0#32
  let c0_2737 : Index := 0#32
  let arg1 : BitVec 32 := BitVec.ofNat 32 (i 1).val
  let c2_i32_2731 : BitVec 32 := 2#32
  let v4495 : BitVec 32 := Scalar.muli arg1 c2_i32_2731
  let c1_i32_2732 : BitVec 32 := 1#32
  let v4496 : BitVec 32 := Scalar.addi v4495 c1_i32_2732
  let c256_i32_2733 : BitVec 32 := 256#32
  let v4497 : BitVec 32 := Scalar.muli v4496 c256_i32_2733
  let c38_i32_2734 : BitVec 32 := 38#32
  let v4498 : BitVec 32 := Scalar.addi v4497 c38_i32_2734
  let v4500 : Index := Scalar.indexCast v4498
  ![0, 0, v4500.toNat]
def k0_mult1615 (v4501 : BitVec 32) : BitVec 32 :=
  v4501

def k0_mult1616 (i : grid0.Coords) : BitVec 32 :=
  let arg1 : BitVec 32 := BitVec.ofNat 32 (i 1).val
  let c2_i32_2731 : BitVec 32 := 2#32
  let v4495 : BitVec 32 := Scalar.muli arg1 c2_i32_2731
  let c1_i32_2732 : BitVec 32 := 1#32
  let v4496 : BitVec 32 := Scalar.addi v4495 c1_i32_2732
  let c256_i32_2733 : BitVec 32 := 256#32
  let v4497 : BitVec 32 := Scalar.muli v4496 c256_i32_2733
  let c38_i32_2734 : BitVec 32 := 38#32
  let v4498 : BitVec 32 := Scalar.addi v4497 c38_i32_2734
  let c8_i32_2738 : BitVec 32 := 8#32
  let v4503 : BitVec 32 := Scalar.muli v4498 c8_i32_2738
  v4503
def k0_off3247 (i : grid0.Coords) : Fin 1 → Nat :=
  let c1_i32_2735 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4499 : BitVec 32 := Scalar.subi c1_i32_2735 v9
  ![v4499.toNat]
def k0_off3248 (i : grid0.Coords) : Fin 3 → Nat :=
  let c1_i32_2735 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4499 : BitVec 32 := Scalar.subi c1_i32_2735 v9
  let arg1 : BitVec 32 := BitVec.ofNat 32 (i 1).val
  let c2_i32_2731 : BitVec 32 := 2#32
  let v4495 : BitVec 32 := Scalar.muli arg1 c2_i32_2731
  let c1_i32_2732 : BitVec 32 := 1#32
  let v4496 : BitVec 32 := Scalar.addi v4495 c1_i32_2732
  let c256_i32_2733 : BitVec 32 := 256#32
  let v4497 : BitVec 32 := Scalar.muli v4496 c256_i32_2733
  let c38_i32_2734 : BitVec 32 := 38#32
  let v4498 : BitVec 32 := Scalar.addi v4497 c38_i32_2734
  let c8_i32_2738 : BitVec 32 := 8#32
  let v4503 : BitVec 32 := Scalar.muli v4498 c8_i32_2738
  let v4504 : BitVec 32 := v4503
  let c0_i32_2739 : BitVec 32 := 0#32
  ![v4499.toNat, v4504.toNat, 0]
def k0_off3249 (v4501 : BitVec 32) : Fin 2 → Nat :=
  let v4502 : BitVec 32 := v4501
  let c0_i32_2740 : BitVec 32 := 0#32
  ![v4502.toNat, 0]

def k0_chk808 (i : grid0.Coords) (v4501 : BitVec 32) : Prop :=
  (∀ (k0_h3 : k0_cond3 i = 1#1), 8 ∣ (k0_mult1615 v4501).toNat) ∧
  (∀ (k0_h3 : k0_cond3 i = 1#1), ∀ a, (k0_off3249 v4501) a + S8x128.size a ≤ S131072x128.size a)
theorem k0_mult1615_dvd : ∀ (i : grid0.Coords) (v4501 : BitVec 32) (k0_hw808 : k0_chk808 i v4501), ∀ (k0_h3 : k0_cond3 i = 1#1), 8 ∣ (k0_mult1615 v4501).toNat := fun i v4501 k0_hw808 k0_h3 => k0_hw808.1 k0_h3
theorem k0_off3249_inb : ∀ (i : grid0.Coords) (v4501 : BitVec 32) (k0_hw808 : k0_chk808 i v4501), ∀ (k0_h3 : k0_cond3 i = 1#1), ∀ a, (k0_off3249 v4501) a + S8x128.size a ≤ S131072x128.size a := fun i v4501 k0_hw808 k0_h3 => k0_hw808.2 k0_h3

def k0_off3250 (i : grid0.Coords) : Fin 3 → Nat :=
  let c0_2746 : Index := 0#32
  let c0_2747 : Index := 0#32
  let arg1 : BitVec 32 := BitVec.ofNat 32 (i 1).val
  let c2_i32_2741 : BitVec 32 := 2#32
  let v4510 : BitVec 32 := Scalar.muli arg1 c2_i32_2741
  let c1_i32_2742 : BitVec 32 := 1#32
  let v4511 : BitVec 32 := Scalar.addi v4510 c1_i32_2742
  let c256_i32_2743 : BitVec 32 := 256#32
  let v4512 : BitVec 32 := Scalar.muli v4511 c256_i32_2743
  let c39_i32_2744 : BitVec 32 := 39#32
  let v4513 : BitVec 32 := Scalar.addi v4512 c39_i32_2744
  let v4515 : Index := Scalar.indexCast v4513
  ![0, 0, v4515.toNat]
def k0_mult1617 (v4516 : BitVec 32) : BitVec 32 :=
  v4516

def k0_mult1618 (i : grid0.Coords) : BitVec 32 :=
  let arg1 : BitVec 32 := BitVec.ofNat 32 (i 1).val
  let c2_i32_2741 : BitVec 32 := 2#32
  let v4510 : BitVec 32 := Scalar.muli arg1 c2_i32_2741
  let c1_i32_2742 : BitVec 32 := 1#32
  let v4511 : BitVec 32 := Scalar.addi v4510 c1_i32_2742
  let c256_i32_2743 : BitVec 32 := 256#32
  let v4512 : BitVec 32 := Scalar.muli v4511 c256_i32_2743
  let c39_i32_2744 : BitVec 32 := 39#32
  let v4513 : BitVec 32 := Scalar.addi v4512 c39_i32_2744
  let c8_i32_2748 : BitVec 32 := 8#32
  let v4518 : BitVec 32 := Scalar.muli v4513 c8_i32_2748
  v4518
def k0_off3251 (i : grid0.Coords) : Fin 1 → Nat :=
  let c1_i32_2745 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4514 : BitVec 32 := Scalar.subi c1_i32_2745 v9
  ![v4514.toNat]
def k0_off3252 (i : grid0.Coords) : Fin 3 → Nat :=
  let c1_i32_2745 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4514 : BitVec 32 := Scalar.subi c1_i32_2745 v9
  let arg1 : BitVec 32 := BitVec.ofNat 32 (i 1).val
  let c2_i32_2741 : BitVec 32 := 2#32
  let v4510 : BitVec 32 := Scalar.muli arg1 c2_i32_2741
  let c1_i32_2742 : BitVec 32 := 1#32
  let v4511 : BitVec 32 := Scalar.addi v4510 c1_i32_2742
  let c256_i32_2743 : BitVec 32 := 256#32
  let v4512 : BitVec 32 := Scalar.muli v4511 c256_i32_2743
  let c39_i32_2744 : BitVec 32 := 39#32
  let v4513 : BitVec 32 := Scalar.addi v4512 c39_i32_2744
  let c8_i32_2748 : BitVec 32 := 8#32
  let v4518 : BitVec 32 := Scalar.muli v4513 c8_i32_2748
  let v4519 : BitVec 32 := v4518
  let c0_i32_2749 : BitVec 32 := 0#32
  ![v4514.toNat, v4519.toNat, 0]
def k0_off3253 (v4516 : BitVec 32) : Fin 2 → Nat :=
  let v4517 : BitVec 32 := v4516
  let c0_i32_2750 : BitVec 32 := 0#32
  ![v4517.toNat, 0]

def k0_chk809 (i : grid0.Coords) (v4516 : BitVec 32) : Prop :=
  (∀ (k0_h3 : k0_cond3 i = 1#1), 8 ∣ (k0_mult1617 v4516).toNat) ∧
  (∀ (k0_h3 : k0_cond3 i = 1#1), ∀ a, (k0_off3253 v4516) a + S8x128.size a ≤ S131072x128.size a)
theorem k0_mult1617_dvd : ∀ (i : grid0.Coords) (v4516 : BitVec 32) (k0_hw809 : k0_chk809 i v4516), ∀ (k0_h3 : k0_cond3 i = 1#1), 8 ∣ (k0_mult1617 v4516).toNat := fun i v4516 k0_hw809 k0_h3 => k0_hw809.1 k0_h3
theorem k0_off3253_inb : ∀ (i : grid0.Coords) (v4516 : BitVec 32) (k0_hw809 : k0_chk809 i v4516), ∀ (k0_h3 : k0_cond3 i = 1#1), ∀ a, (k0_off3253 v4516) a + S8x128.size a ≤ S131072x128.size a := fun i v4516 k0_hw809 k0_h3 => k0_hw809.2 k0_h3

def k0_off3254 (i : grid0.Coords) : Fin 3 → Nat :=
  let c0_2756 : Index := 0#32
  let c0_2757 : Index := 0#32
  let arg1 : BitVec 32 := BitVec.ofNat 32 (i 1).val
  let c2_i32_2751 : BitVec 32 := 2#32
  let v4525 : BitVec 32 := Scalar.muli arg1 c2_i32_2751
  let c1_i32_2752 : BitVec 32 := 1#32
  let v4526 : BitVec 32 := Scalar.addi v4525 c1_i32_2752
  let c256_i32_2753 : BitVec 32 := 256#32
  let v4527 : BitVec 32 := Scalar.muli v4526 c256_i32_2753
  let c40_i32_2754 : BitVec 32 := 40#32
  let v4528 : BitVec 32 := Scalar.addi v4527 c40_i32_2754
  let v4530 : Index := Scalar.indexCast v4528
  ![0, 0, v4530.toNat]
def k0_mult1619 (v4531 : BitVec 32) : BitVec 32 :=
  v4531

def k0_mult1620 (i : grid0.Coords) : BitVec 32 :=
  let arg1 : BitVec 32 := BitVec.ofNat 32 (i 1).val
  let c2_i32_2751 : BitVec 32 := 2#32
  let v4525 : BitVec 32 := Scalar.muli arg1 c2_i32_2751
  let c1_i32_2752 : BitVec 32 := 1#32
  let v4526 : BitVec 32 := Scalar.addi v4525 c1_i32_2752
  let c256_i32_2753 : BitVec 32 := 256#32
  let v4527 : BitVec 32 := Scalar.muli v4526 c256_i32_2753
  let c40_i32_2754 : BitVec 32 := 40#32
  let v4528 : BitVec 32 := Scalar.addi v4527 c40_i32_2754
  let c8_i32_2758 : BitVec 32 := 8#32
  let v4533 : BitVec 32 := Scalar.muli v4528 c8_i32_2758
  v4533
def k0_off3255 (i : grid0.Coords) : Fin 1 → Nat :=
  let c1_i32_2755 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4529 : BitVec 32 := Scalar.subi c1_i32_2755 v9
  ![v4529.toNat]
def k0_off3256 (i : grid0.Coords) : Fin 3 → Nat :=
  let c1_i32_2755 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4529 : BitVec 32 := Scalar.subi c1_i32_2755 v9
  let arg1 : BitVec 32 := BitVec.ofNat 32 (i 1).val
  let c2_i32_2751 : BitVec 32 := 2#32
  let v4525 : BitVec 32 := Scalar.muli arg1 c2_i32_2751
  let c1_i32_2752 : BitVec 32 := 1#32
  let v4526 : BitVec 32 := Scalar.addi v4525 c1_i32_2752
  let c256_i32_2753 : BitVec 32 := 256#32
  let v4527 : BitVec 32 := Scalar.muli v4526 c256_i32_2753
  let c40_i32_2754 : BitVec 32 := 40#32
  let v4528 : BitVec 32 := Scalar.addi v4527 c40_i32_2754
  let c8_i32_2758 : BitVec 32 := 8#32
  let v4533 : BitVec 32 := Scalar.muli v4528 c8_i32_2758
  let v4534 : BitVec 32 := v4533
  let c0_i32_2759 : BitVec 32 := 0#32
  ![v4529.toNat, v4534.toNat, 0]
def k0_off3257 (v4531 : BitVec 32) : Fin 2 → Nat :=
  let v4532 : BitVec 32 := v4531
  let c0_i32_2760 : BitVec 32 := 0#32
  ![v4532.toNat, 0]

def k0_chk810 (i : grid0.Coords) (v4531 : BitVec 32) : Prop :=
  (∀ (k0_h3 : k0_cond3 i = 1#1), 8 ∣ (k0_mult1619 v4531).toNat) ∧
  (∀ (k0_h3 : k0_cond3 i = 1#1), ∀ a, (k0_off3257 v4531) a + S8x128.size a ≤ S131072x128.size a)
theorem k0_mult1619_dvd : ∀ (i : grid0.Coords) (v4531 : BitVec 32) (k0_hw810 : k0_chk810 i v4531), ∀ (k0_h3 : k0_cond3 i = 1#1), 8 ∣ (k0_mult1619 v4531).toNat := fun i v4531 k0_hw810 k0_h3 => k0_hw810.1 k0_h3
theorem k0_off3257_inb : ∀ (i : grid0.Coords) (v4531 : BitVec 32) (k0_hw810 : k0_chk810 i v4531), ∀ (k0_h3 : k0_cond3 i = 1#1), ∀ a, (k0_off3257 v4531) a + S8x128.size a ≤ S131072x128.size a := fun i v4531 k0_hw810 k0_h3 => k0_hw810.2 k0_h3

def k0_off3258 (i : grid0.Coords) : Fin 3 → Nat :=
  let c0_2766 : Index := 0#32
  let c0_2767 : Index := 0#32
  let arg1 : BitVec 32 := BitVec.ofNat 32 (i 1).val
  let c2_i32_2761 : BitVec 32 := 2#32
  let v4540 : BitVec 32 := Scalar.muli arg1 c2_i32_2761
  let c1_i32_2762 : BitVec 32 := 1#32
  let v4541 : BitVec 32 := Scalar.addi v4540 c1_i32_2762
  let c256_i32_2763 : BitVec 32 := 256#32
  let v4542 : BitVec 32 := Scalar.muli v4541 c256_i32_2763
  let c41_i32_2764 : BitVec 32 := 41#32
  let v4543 : BitVec 32 := Scalar.addi v4542 c41_i32_2764
  let v4545 : Index := Scalar.indexCast v4543
  ![0, 0, v4545.toNat]
def k0_mult1621 (v4546 : BitVec 32) : BitVec 32 :=
  v4546

def k0_mult1622 (i : grid0.Coords) : BitVec 32 :=
  let arg1 : BitVec 32 := BitVec.ofNat 32 (i 1).val
  let c2_i32_2761 : BitVec 32 := 2#32
  let v4540 : BitVec 32 := Scalar.muli arg1 c2_i32_2761
  let c1_i32_2762 : BitVec 32 := 1#32
  let v4541 : BitVec 32 := Scalar.addi v4540 c1_i32_2762
  let c256_i32_2763 : BitVec 32 := 256#32
  let v4542 : BitVec 32 := Scalar.muli v4541 c256_i32_2763
  let c41_i32_2764 : BitVec 32 := 41#32
  let v4543 : BitVec 32 := Scalar.addi v4542 c41_i32_2764
  let c8_i32_2768 : BitVec 32 := 8#32
  let v4548 : BitVec 32 := Scalar.muli v4543 c8_i32_2768
  v4548
def k0_off3259 (i : grid0.Coords) : Fin 1 → Nat :=
  let c1_i32_2765 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4544 : BitVec 32 := Scalar.subi c1_i32_2765 v9
  ![v4544.toNat]
def k0_off3260 (i : grid0.Coords) : Fin 3 → Nat :=
  let c1_i32_2765 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4544 : BitVec 32 := Scalar.subi c1_i32_2765 v9
  let arg1 : BitVec 32 := BitVec.ofNat 32 (i 1).val
  let c2_i32_2761 : BitVec 32 := 2#32
  let v4540 : BitVec 32 := Scalar.muli arg1 c2_i32_2761
  let c1_i32_2762 : BitVec 32 := 1#32
  let v4541 : BitVec 32 := Scalar.addi v4540 c1_i32_2762
  let c256_i32_2763 : BitVec 32 := 256#32
  let v4542 : BitVec 32 := Scalar.muli v4541 c256_i32_2763
  let c41_i32_2764 : BitVec 32 := 41#32
  let v4543 : BitVec 32 := Scalar.addi v4542 c41_i32_2764
  let c8_i32_2768 : BitVec 32 := 8#32
  let v4548 : BitVec 32 := Scalar.muli v4543 c8_i32_2768
  let v4549 : BitVec 32 := v4548
  let c0_i32_2769 : BitVec 32 := 0#32
  ![v4544.toNat, v4549.toNat, 0]
def k0_off3261 (v4546 : BitVec 32) : Fin 2 → Nat :=
  let v4547 : BitVec 32 := v4546
  let c0_i32_2770 : BitVec 32 := 0#32
  ![v4547.toNat, 0]

def k0_chk811 (i : grid0.Coords) (v4546 : BitVec 32) : Prop :=
  (∀ (k0_h3 : k0_cond3 i = 1#1), 8 ∣ (k0_mult1621 v4546).toNat) ∧
  (∀ (k0_h3 : k0_cond3 i = 1#1), ∀ a, (k0_off3261 v4546) a + S8x128.size a ≤ S131072x128.size a)
theorem k0_mult1621_dvd : ∀ (i : grid0.Coords) (v4546 : BitVec 32) (k0_hw811 : k0_chk811 i v4546), ∀ (k0_h3 : k0_cond3 i = 1#1), 8 ∣ (k0_mult1621 v4546).toNat := fun i v4546 k0_hw811 k0_h3 => k0_hw811.1 k0_h3
theorem k0_off3261_inb : ∀ (i : grid0.Coords) (v4546 : BitVec 32) (k0_hw811 : k0_chk811 i v4546), ∀ (k0_h3 : k0_cond3 i = 1#1), ∀ a, (k0_off3261 v4546) a + S8x128.size a ≤ S131072x128.size a := fun i v4546 k0_hw811 k0_h3 => k0_hw811.2 k0_h3

def k0_off3262 (i : grid0.Coords) : Fin 3 → Nat :=
  let c0_2776 : Index := 0#32
  let c0_2777 : Index := 0#32
  let arg1 : BitVec 32 := BitVec.ofNat 32 (i 1).val
  let c2_i32_2771 : BitVec 32 := 2#32
  let v4555 : BitVec 32 := Scalar.muli arg1 c2_i32_2771
  let c1_i32_2772 : BitVec 32 := 1#32
  let v4556 : BitVec 32 := Scalar.addi v4555 c1_i32_2772
  let c256_i32_2773 : BitVec 32 := 256#32
  let v4557 : BitVec 32 := Scalar.muli v4556 c256_i32_2773
  let c42_i32_2774 : BitVec 32 := 42#32
  let v4558 : BitVec 32 := Scalar.addi v4557 c42_i32_2774
  let v4560 : Index := Scalar.indexCast v4558
  ![0, 0, v4560.toNat]
def k0_mult1623 (v4561 : BitVec 32) : BitVec 32 :=
  v4561

def k0_mult1624 (i : grid0.Coords) : BitVec 32 :=
  let arg1 : BitVec 32 := BitVec.ofNat 32 (i 1).val
  let c2_i32_2771 : BitVec 32 := 2#32
  let v4555 : BitVec 32 := Scalar.muli arg1 c2_i32_2771
  let c1_i32_2772 : BitVec 32 := 1#32
  let v4556 : BitVec 32 := Scalar.addi v4555 c1_i32_2772
  let c256_i32_2773 : BitVec 32 := 256#32
  let v4557 : BitVec 32 := Scalar.muli v4556 c256_i32_2773
  let c42_i32_2774 : BitVec 32 := 42#32
  let v4558 : BitVec 32 := Scalar.addi v4557 c42_i32_2774
  let c8_i32_2778 : BitVec 32 := 8#32
  let v4563 : BitVec 32 := Scalar.muli v4558 c8_i32_2778
  v4563
def k0_off3263 (i : grid0.Coords) : Fin 1 → Nat :=
  let c1_i32_2775 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4559 : BitVec 32 := Scalar.subi c1_i32_2775 v9
  ![v4559.toNat]
def k0_off3264 (i : grid0.Coords) : Fin 3 → Nat :=
  let c1_i32_2775 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4559 : BitVec 32 := Scalar.subi c1_i32_2775 v9
  let arg1 : BitVec 32 := BitVec.ofNat 32 (i 1).val
  let c2_i32_2771 : BitVec 32 := 2#32
  let v4555 : BitVec 32 := Scalar.muli arg1 c2_i32_2771
  let c1_i32_2772 : BitVec 32 := 1#32
  let v4556 : BitVec 32 := Scalar.addi v4555 c1_i32_2772
  let c256_i32_2773 : BitVec 32 := 256#32
  let v4557 : BitVec 32 := Scalar.muli v4556 c256_i32_2773
  let c42_i32_2774 : BitVec 32 := 42#32
  let v4558 : BitVec 32 := Scalar.addi v4557 c42_i32_2774
  let c8_i32_2778 : BitVec 32 := 8#32
  let v4563 : BitVec 32 := Scalar.muli v4558 c8_i32_2778
  let v4564 : BitVec 32 := v4563
  let c0_i32_2779 : BitVec 32 := 0#32
  ![v4559.toNat, v4564.toNat, 0]
def k0_off3265 (v4561 : BitVec 32) : Fin 2 → Nat :=
  let v4562 : BitVec 32 := v4561
  let c0_i32_2780 : BitVec 32 := 0#32
  ![v4562.toNat, 0]

def k0_chk812 (i : grid0.Coords) (v4561 : BitVec 32) : Prop :=
  (∀ (k0_h3 : k0_cond3 i = 1#1), 8 ∣ (k0_mult1623 v4561).toNat) ∧
  (∀ (k0_h3 : k0_cond3 i = 1#1), ∀ a, (k0_off3265 v4561) a + S8x128.size a ≤ S131072x128.size a)
theorem k0_mult1623_dvd : ∀ (i : grid0.Coords) (v4561 : BitVec 32) (k0_hw812 : k0_chk812 i v4561), ∀ (k0_h3 : k0_cond3 i = 1#1), 8 ∣ (k0_mult1623 v4561).toNat := fun i v4561 k0_hw812 k0_h3 => k0_hw812.1 k0_h3
theorem k0_off3265_inb : ∀ (i : grid0.Coords) (v4561 : BitVec 32) (k0_hw812 : k0_chk812 i v4561), ∀ (k0_h3 : k0_cond3 i = 1#1), ∀ a, (k0_off3265 v4561) a + S8x128.size a ≤ S131072x128.size a := fun i v4561 k0_hw812 k0_h3 => k0_hw812.2 k0_h3

def k0_off3266 (i : grid0.Coords) : Fin 3 → Nat :=
  let c0_2786 : Index := 0#32
  let c0_2787 : Index := 0#32
  let arg1 : BitVec 32 := BitVec.ofNat 32 (i 1).val
  let c2_i32_2781 : BitVec 32 := 2#32
  let v4570 : BitVec 32 := Scalar.muli arg1 c2_i32_2781
  let c1_i32_2782 : BitVec 32 := 1#32
  let v4571 : BitVec 32 := Scalar.addi v4570 c1_i32_2782
  let c256_i32_2783 : BitVec 32 := 256#32
  let v4572 : BitVec 32 := Scalar.muli v4571 c256_i32_2783
  let c43_i32_2784 : BitVec 32 := 43#32
  let v4573 : BitVec 32 := Scalar.addi v4572 c43_i32_2784
  let v4575 : Index := Scalar.indexCast v4573
  ![0, 0, v4575.toNat]
def k0_mult1625 (v4576 : BitVec 32) : BitVec 32 :=
  v4576

def k0_mult1626 (i : grid0.Coords) : BitVec 32 :=
  let arg1 : BitVec 32 := BitVec.ofNat 32 (i 1).val
  let c2_i32_2781 : BitVec 32 := 2#32
  let v4570 : BitVec 32 := Scalar.muli arg1 c2_i32_2781
  let c1_i32_2782 : BitVec 32 := 1#32
  let v4571 : BitVec 32 := Scalar.addi v4570 c1_i32_2782
  let c256_i32_2783 : BitVec 32 := 256#32
  let v4572 : BitVec 32 := Scalar.muli v4571 c256_i32_2783
  let c43_i32_2784 : BitVec 32 := 43#32
  let v4573 : BitVec 32 := Scalar.addi v4572 c43_i32_2784
  let c8_i32_2788 : BitVec 32 := 8#32
  let v4578 : BitVec 32 := Scalar.muli v4573 c8_i32_2788
  v4578
def k0_off3267 (i : grid0.Coords) : Fin 1 → Nat :=
  let c1_i32_2785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4574 : BitVec 32 := Scalar.subi c1_i32_2785 v9
  ![v4574.toNat]
def k0_off3268 (i : grid0.Coords) : Fin 3 → Nat :=
  let c1_i32_2785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4574 : BitVec 32 := Scalar.subi c1_i32_2785 v9
  let arg1 : BitVec 32 := BitVec.ofNat 32 (i 1).val
  let c2_i32_2781 : BitVec 32 := 2#32
  let v4570 : BitVec 32 := Scalar.muli arg1 c2_i32_2781
  let c1_i32_2782 : BitVec 32 := 1#32
  let v4571 : BitVec 32 := Scalar.addi v4570 c1_i32_2782
  let c256_i32_2783 : BitVec 32 := 256#32
  let v4572 : BitVec 32 := Scalar.muli v4571 c256_i32_2783
  let c43_i32_2784 : BitVec 32 := 43#32
  let v4573 : BitVec 32 := Scalar.addi v4572 c43_i32_2784
  let c8_i32_2788 : BitVec 32 := 8#32
  let v4578 : BitVec 32 := Scalar.muli v4573 c8_i32_2788
  let v4579 : BitVec 32 := v4578
  let c0_i32_2789 : BitVec 32 := 0#32
  ![v4574.toNat, v4579.toNat, 0]
def k0_off3269 (v4576 : BitVec 32) : Fin 2 → Nat :=
  let v4577 : BitVec 32 := v4576
  let c0_i32_2790 : BitVec 32 := 0#32
  ![v4577.toNat, 0]

def k0_chk813 (i : grid0.Coords) (v4576 : BitVec 32) : Prop :=
  (∀ (k0_h3 : k0_cond3 i = 1#1), 8 ∣ (k0_mult1625 v4576).toNat) ∧
  (∀ (k0_h3 : k0_cond3 i = 1#1), ∀ a, (k0_off3269 v4576) a + S8x128.size a ≤ S131072x128.size a)
theorem k0_mult1625_dvd : ∀ (i : grid0.Coords) (v4576 : BitVec 32) (k0_hw813 : k0_chk813 i v4576), ∀ (k0_h3 : k0_cond3 i = 1#1), 8 ∣ (k0_mult1625 v4576).toNat := fun i v4576 k0_hw813 k0_h3 => k0_hw813.1 k0_h3
theorem k0_off3269_inb : ∀ (i : grid0.Coords) (v4576 : BitVec 32) (k0_hw813 : k0_chk813 i v4576), ∀ (k0_h3 : k0_cond3 i = 1#1), ∀ a, (k0_off3269 v4576) a + S8x128.size a ≤ S131072x128.size a := fun i v4576 k0_hw813 k0_h3 => k0_hw813.2 k0_h3

def k0_off3270 (i : grid0.Coords) : Fin 3 → Nat :=
  let c0_2796 : Index := 0#32
  let c0_2797 : Index := 0#32
  let arg1 : BitVec 32 := BitVec.ofNat 32 (i 1).val
  let c2_i32_2791 : BitVec 32 := 2#32
  let v4585 : BitVec 32 := Scalar.muli arg1 c2_i32_2791
  let c1_i32_2792 : BitVec 32 := 1#32
  let v4586 : BitVec 32 := Scalar.addi v4585 c1_i32_2792
  let c256_i32_2793 : BitVec 32 := 256#32
  let v4587 : BitVec 32 := Scalar.muli v4586 c256_i32_2793
  let c44_i32_2794 : BitVec 32 := 44#32
  let v4588 : BitVec 32 := Scalar.addi v4587 c44_i32_2794
  let v4590 : Index := Scalar.indexCast v4588
  ![0, 0, v4590.toNat]
def k0_mult1627 (v4591 : BitVec 32) : BitVec 32 :=
  v4591

def k0_mult1628 (i : grid0.Coords) : BitVec 32 :=
  let arg1 : BitVec 32 := BitVec.ofNat 32 (i 1).val
  let c2_i32_2791 : BitVec 32 := 2#32
  let v4585 : BitVec 32 := Scalar.muli arg1 c2_i32_2791
  let c1_i32_2792 : BitVec 32 := 1#32
  let v4586 : BitVec 32 := Scalar.addi v4585 c1_i32_2792
  let c256_i32_2793 : BitVec 32 := 256#32
  let v4587 : BitVec 32 := Scalar.muli v4586 c256_i32_2793
  let c44_i32_2794 : BitVec 32 := 44#32
  let v4588 : BitVec 32 := Scalar.addi v4587 c44_i32_2794
  let c8_i32_2798 : BitVec 32 := 8#32
  let v4593 : BitVec 32 := Scalar.muli v4588 c8_i32_2798
  v4593
def k0_off3271 (i : grid0.Coords) : Fin 1 → Nat :=
  let c1_i32_2795 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4589 : BitVec 32 := Scalar.subi c1_i32_2795 v9
  ![v4589.toNat]
def k0_off3272 (i : grid0.Coords) : Fin 3 → Nat :=
  let c1_i32_2795 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4589 : BitVec 32 := Scalar.subi c1_i32_2795 v9
  let arg1 : BitVec 32 := BitVec.ofNat 32 (i 1).val
  let c2_i32_2791 : BitVec 32 := 2#32
  let v4585 : BitVec 32 := Scalar.muli arg1 c2_i32_2791
  let c1_i32_2792 : BitVec 32 := 1#32
  let v4586 : BitVec 32 := Scalar.addi v4585 c1_i32_2792
  let c256_i32_2793 : BitVec 32 := 256#32
  let v4587 : BitVec 32 := Scalar.muli v4586 c256_i32_2793
  let c44_i32_2794 : BitVec 32 := 44#32
  let v4588 : BitVec 32 := Scalar.addi v4587 c44_i32_2794
  let c8_i32_2798 : BitVec 32 := 8#32
  let v4593 : BitVec 32 := Scalar.muli v4588 c8_i32_2798
  let v4594 : BitVec 32 := v4593
  let c0_i32_2799 : BitVec 32 := 0#32
  ![v4589.toNat, v4594.toNat, 0]
def k0_off3273 (v4591 : BitVec 32) : Fin 2 → Nat :=
  let v4592 : BitVec 32 := v4591
  let c0_i32_2800 : BitVec 32 := 0#32
  ![v4592.toNat, 0]

def k0_chk814 (i : grid0.Coords) (v4591 : BitVec 32) : Prop :=
  (∀ (k0_h3 : k0_cond3 i = 1#1), 8 ∣ (k0_mult1627 v4591).toNat) ∧
  (∀ (k0_h3 : k0_cond3 i = 1#1), ∀ a, (k0_off3273 v4591) a + S8x128.size a ≤ S131072x128.size a)
theorem k0_mult1627_dvd : ∀ (i : grid0.Coords) (v4591 : BitVec 32) (k0_hw814 : k0_chk814 i v4591), ∀ (k0_h3 : k0_cond3 i = 1#1), 8 ∣ (k0_mult1627 v4591).toNat := fun i v4591 k0_hw814 k0_h3 => k0_hw814.1 k0_h3
theorem k0_off3273_inb : ∀ (i : grid0.Coords) (v4591 : BitVec 32) (k0_hw814 : k0_chk814 i v4591), ∀ (k0_h3 : k0_cond3 i = 1#1), ∀ a, (k0_off3273 v4591) a + S8x128.size a ≤ S131072x128.size a := fun i v4591 k0_hw814 k0_h3 => k0_hw814.2 k0_h3

def k0_off3274 (i : grid0.Coords) : Fin 3 → Nat :=
  let c0_2806 : Index := 0#32
  let c0_2807 : Index := 0#32
  let arg1 : BitVec 32 := BitVec.ofNat 32 (i 1).val
  let c2_i32_2801 : BitVec 32 := 2#32
  let v4600 : BitVec 32 := Scalar.muli arg1 c2_i32_2801
  let c1_i32_2802 : BitVec 32 := 1#32
  let v4601 : BitVec 32 := Scalar.addi v4600 c1_i32_2802
  let c256_i32_2803 : BitVec 32 := 256#32
  let v4602 : BitVec 32 := Scalar.muli v4601 c256_i32_2803
  let c45_i32_2804 : BitVec 32 := 45#32
  let v4603 : BitVec 32 := Scalar.addi v4602 c45_i32_2804
  let v4605 : Index := Scalar.indexCast v4603
  ![0, 0, v4605.toNat]
def k0_mult1629 (v4606 : BitVec 32) : BitVec 32 :=
  v4606

def k0_mult1630 (i : grid0.Coords) : BitVec 32 :=
  let arg1 : BitVec 32 := BitVec.ofNat 32 (i 1).val
  let c2_i32_2801 : BitVec 32 := 2#32
  let v4600 : BitVec 32 := Scalar.muli arg1 c2_i32_2801
  let c1_i32_2802 : BitVec 32 := 1#32
  let v4601 : BitVec 32 := Scalar.addi v4600 c1_i32_2802
  let c256_i32_2803 : BitVec 32 := 256#32
  let v4602 : BitVec 32 := Scalar.muli v4601 c256_i32_2803
  let c45_i32_2804 : BitVec 32 := 45#32
  let v4603 : BitVec 32 := Scalar.addi v4602 c45_i32_2804
  let c8_i32_2808 : BitVec 32 := 8#32
  let v4608 : BitVec 32 := Scalar.muli v4603 c8_i32_2808
  v4608
def k0_off3275 (i : grid0.Coords) : Fin 1 → Nat :=
  let c1_i32_2805 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4604 : BitVec 32 := Scalar.subi c1_i32_2805 v9
  ![v4604.toNat]
def k0_off3276 (i : grid0.Coords) : Fin 3 → Nat :=
  let c1_i32_2805 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4604 : BitVec 32 := Scalar.subi c1_i32_2805 v9
  let arg1 : BitVec 32 := BitVec.ofNat 32 (i 1).val
  let c2_i32_2801 : BitVec 32 := 2#32
  let v4600 : BitVec 32 := Scalar.muli arg1 c2_i32_2801
  let c1_i32_2802 : BitVec 32 := 1#32
  let v4601 : BitVec 32 := Scalar.addi v4600 c1_i32_2802
  let c256_i32_2803 : BitVec 32 := 256#32
  let v4602 : BitVec 32 := Scalar.muli v4601 c256_i32_2803
  let c45_i32_2804 : BitVec 32 := 45#32
  let v4603 : BitVec 32 := Scalar.addi v4602 c45_i32_2804
  let c8_i32_2808 : BitVec 32 := 8#32
  let v4608 : BitVec 32 := Scalar.muli v4603 c8_i32_2808
  let v4609 : BitVec 32 := v4608
  let c0_i32_2809 : BitVec 32 := 0#32
  ![v4604.toNat, v4609.toNat, 0]
def k0_off3277 (v4606 : BitVec 32) : Fin 2 → Nat :=
  let v4607 : BitVec 32 := v4606
  let c0_i32_2810 : BitVec 32 := 0#32
  ![v4607.toNat, 0]

def k0_chk815 (i : grid0.Coords) (v4606 : BitVec 32) : Prop :=
  (∀ (k0_h3 : k0_cond3 i = 1#1), 8 ∣ (k0_mult1629 v4606).toNat) ∧
  (∀ (k0_h3 : k0_cond3 i = 1#1), ∀ a, (k0_off3277 v4606) a + S8x128.size a ≤ S131072x128.size a)
theorem k0_mult1629_dvd : ∀ (i : grid0.Coords) (v4606 : BitVec 32) (k0_hw815 : k0_chk815 i v4606), ∀ (k0_h3 : k0_cond3 i = 1#1), 8 ∣ (k0_mult1629 v4606).toNat := fun i v4606 k0_hw815 k0_h3 => k0_hw815.1 k0_h3
theorem k0_off3277_inb : ∀ (i : grid0.Coords) (v4606 : BitVec 32) (k0_hw815 : k0_chk815 i v4606), ∀ (k0_h3 : k0_cond3 i = 1#1), ∀ a, (k0_off3277 v4606) a + S8x128.size a ≤ S131072x128.size a := fun i v4606 k0_hw815 k0_h3 => k0_hw815.2 k0_h3

def k0_off3278 (i : grid0.Coords) : Fin 3 → Nat :=
  let c0_2816 : Index := 0#32
  let c0_2817 : Index := 0#32
  let arg1 : BitVec 32 := BitVec.ofNat 32 (i 1).val
  let c2_i32_2811 : BitVec 32 := 2#32
  let v4615 : BitVec 32 := Scalar.muli arg1 c2_i32_2811
  let c1_i32_2812 : BitVec 32 := 1#32
  let v4616 : BitVec 32 := Scalar.addi v4615 c1_i32_2812
  let c256_i32_2813 : BitVec 32 := 256#32
  let v4617 : BitVec 32 := Scalar.muli v4616 c256_i32_2813
  let c46_i32_2814 : BitVec 32 := 46#32
  let v4618 : BitVec 32 := Scalar.addi v4617 c46_i32_2814
  let v4620 : Index := Scalar.indexCast v4618
  ![0, 0, v4620.toNat]
def k0_mult1631 (v4621 : BitVec 32) : BitVec 32 :=
  v4621

def k0_mult1632 (i : grid0.Coords) : BitVec 32 :=
  let arg1 : BitVec 32 := BitVec.ofNat 32 (i 1).val
  let c2_i32_2811 : BitVec 32 := 2#32
  let v4615 : BitVec 32 := Scalar.muli arg1 c2_i32_2811
  let c1_i32_2812 : BitVec 32 := 1#32
  let v4616 : BitVec 32 := Scalar.addi v4615 c1_i32_2812
  let c256_i32_2813 : BitVec 32 := 256#32
  let v4617 : BitVec 32 := Scalar.muli v4616 c256_i32_2813
  let c46_i32_2814 : BitVec 32 := 46#32
  let v4618 : BitVec 32 := Scalar.addi v4617 c46_i32_2814
  let c8_i32_2818 : BitVec 32 := 8#32
  let v4623 : BitVec 32 := Scalar.muli v4618 c8_i32_2818
  v4623
def k0_off3279 (i : grid0.Coords) : Fin 1 → Nat :=
  let c1_i32_2815 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4619 : BitVec 32 := Scalar.subi c1_i32_2815 v9
  ![v4619.toNat]
def k0_off3280 (i : grid0.Coords) : Fin 3 → Nat :=
  let c1_i32_2815 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4619 : BitVec 32 := Scalar.subi c1_i32_2815 v9
  let arg1 : BitVec 32 := BitVec.ofNat 32 (i 1).val
  let c2_i32_2811 : BitVec 32 := 2#32
  let v4615 : BitVec 32 := Scalar.muli arg1 c2_i32_2811
  let c1_i32_2812 : BitVec 32 := 1#32
  let v4616 : BitVec 32 := Scalar.addi v4615 c1_i32_2812
  let c256_i32_2813 : BitVec 32 := 256#32
  let v4617 : BitVec 32 := Scalar.muli v4616 c256_i32_2813
  let c46_i32_2814 : BitVec 32 := 46#32
  let v4618 : BitVec 32 := Scalar.addi v4617 c46_i32_2814
  let c8_i32_2818 : BitVec 32 := 8#32
  let v4623 : BitVec 32 := Scalar.muli v4618 c8_i32_2818
  let v4624 : BitVec 32 := v4623
  let c0_i32_2819 : BitVec 32 := 0#32
  ![v4619.toNat, v4624.toNat, 0]
def k0_off3281 (v4621 : BitVec 32) : Fin 2 → Nat :=
  let v4622 : BitVec 32 := v4621
  let c0_i32_2820 : BitVec 32 := 0#32
  ![v4622.toNat, 0]

def k0_chk816 (i : grid0.Coords) (v4621 : BitVec 32) : Prop :=
  (∀ (k0_h3 : k0_cond3 i = 1#1), 8 ∣ (k0_mult1631 v4621).toNat) ∧
  (∀ (k0_h3 : k0_cond3 i = 1#1), ∀ a, (k0_off3281 v4621) a + S8x128.size a ≤ S131072x128.size a)
theorem k0_mult1631_dvd : ∀ (i : grid0.Coords) (v4621 : BitVec 32) (k0_hw816 : k0_chk816 i v4621), ∀ (k0_h3 : k0_cond3 i = 1#1), 8 ∣ (k0_mult1631 v4621).toNat := fun i v4621 k0_hw816 k0_h3 => k0_hw816.1 k0_h3
theorem k0_off3281_inb : ∀ (i : grid0.Coords) (v4621 : BitVec 32) (k0_hw816 : k0_chk816 i v4621), ∀ (k0_h3 : k0_cond3 i = 1#1), ∀ a, (k0_off3281 v4621) a + S8x128.size a ≤ S131072x128.size a := fun i v4621 k0_hw816 k0_h3 => k0_hw816.2 k0_h3

def k0_off3282 (i : grid0.Coords) : Fin 3 → Nat :=
  let c0_2826 : Index := 0#32
  let c0_2827 : Index := 0#32
  let arg1 : BitVec 32 := BitVec.ofNat 32 (i 1).val
  let c2_i32_2821 : BitVec 32 := 2#32
  let v4630 : BitVec 32 := Scalar.muli arg1 c2_i32_2821
  let c1_i32_2822 : BitVec 32 := 1#32
  let v4631 : BitVec 32 := Scalar.addi v4630 c1_i32_2822
  let c256_i32_2823 : BitVec 32 := 256#32
  let v4632 : BitVec 32 := Scalar.muli v4631 c256_i32_2823
  let c47_i32_2824 : BitVec 32 := 47#32
  let v4633 : BitVec 32 := Scalar.addi v4632 c47_i32_2824
  let v4635 : Index := Scalar.indexCast v4633
  ![0, 0, v4635.toNat]
def k0_mult1633 (v4636 : BitVec 32) : BitVec 32 :=
  v4636

def k0_mult1634 (i : grid0.Coords) : BitVec 32 :=
  let arg1 : BitVec 32 := BitVec.ofNat 32 (i 1).val
  let c2_i32_2821 : BitVec 32 := 2#32
  let v4630 : BitVec 32 := Scalar.muli arg1 c2_i32_2821
  let c1_i32_2822 : BitVec 32 := 1#32
  let v4631 : BitVec 32 := Scalar.addi v4630 c1_i32_2822
  let c256_i32_2823 : BitVec 32 := 256#32
  let v4632 : BitVec 32 := Scalar.muli v4631 c256_i32_2823
  let c47_i32_2824 : BitVec 32 := 47#32
  let v4633 : BitVec 32 := Scalar.addi v4632 c47_i32_2824
  let c8_i32_2828 : BitVec 32 := 8#32
  let v4638 : BitVec 32 := Scalar.muli v4633 c8_i32_2828
  v4638
def k0_off3283 (i : grid0.Coords) : Fin 1 → Nat :=
  let c1_i32_2825 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4634 : BitVec 32 := Scalar.subi c1_i32_2825 v9
  ![v4634.toNat]
def k0_off3284 (i : grid0.Coords) : Fin 3 → Nat :=
  let c1_i32_2825 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4634 : BitVec 32 := Scalar.subi c1_i32_2825 v9
  let arg1 : BitVec 32 := BitVec.ofNat 32 (i 1).val
  let c2_i32_2821 : BitVec 32 := 2#32
  let v4630 : BitVec 32 := Scalar.muli arg1 c2_i32_2821
  let c1_i32_2822 : BitVec 32 := 1#32
  let v4631 : BitVec 32 := Scalar.addi v4630 c1_i32_2822
  let c256_i32_2823 : BitVec 32 := 256#32
  let v4632 : BitVec 32 := Scalar.muli v4631 c256_i32_2823
  let c47_i32_2824 : BitVec 32 := 47#32
  let v4633 : BitVec 32 := Scalar.addi v4632 c47_i32_2824
  let c8_i32_2828 : BitVec 32 := 8#32
  let v4638 : BitVec 32 := Scalar.muli v4633 c8_i32_2828
  let v4639 : BitVec 32 := v4638
  let c0_i32_2829 : BitVec 32 := 0#32
  ![v4634.toNat, v4639.toNat, 0]
def k0_off3285 (v4636 : BitVec 32) : Fin 2 → Nat :=
  let v4637 : BitVec 32 := v4636
  let c0_i32_2830 : BitVec 32 := 0#32
  ![v4637.toNat, 0]

def k0_chk817 (i : grid0.Coords) (v4636 : BitVec 32) : Prop :=
  (∀ (k0_h3 : k0_cond3 i = 1#1), 8 ∣ (k0_mult1633 v4636).toNat) ∧
  (∀ (k0_h3 : k0_cond3 i = 1#1), ∀ a, (k0_off3285 v4636) a + S8x128.size a ≤ S131072x128.size a)
theorem k0_mult1633_dvd : ∀ (i : grid0.Coords) (v4636 : BitVec 32) (k0_hw817 : k0_chk817 i v4636), ∀ (k0_h3 : k0_cond3 i = 1#1), 8 ∣ (k0_mult1633 v4636).toNat := fun i v4636 k0_hw817 k0_h3 => k0_hw817.1 k0_h3
theorem k0_off3285_inb : ∀ (i : grid0.Coords) (v4636 : BitVec 32) (k0_hw817 : k0_chk817 i v4636), ∀ (k0_h3 : k0_cond3 i = 1#1), ∀ a, (k0_off3285 v4636) a + S8x128.size a ≤ S131072x128.size a := fun i v4636 k0_hw817 k0_h3 => k0_hw817.2 k0_h3

def k0_off3286 (i : grid0.Coords) : Fin 3 → Nat :=
  let c0_2836 : Index := 0#32
  let c0_2837 : Index := 0#32
  let arg1 : BitVec 32 := BitVec.ofNat 32 (i 1).val
  let c2_i32_2831 : BitVec 32 := 2#32
  let v4645 : BitVec 32 := Scalar.muli arg1 c2_i32_2831
  let c1_i32_2832 : BitVec 32 := 1#32
  let v4646 : BitVec 32 := Scalar.addi v4645 c1_i32_2832
  let c256_i32_2833 : BitVec 32 := 256#32
  let v4647 : BitVec 32 := Scalar.muli v4646 c256_i32_2833
  let c48_i32_2834 : BitVec 32 := 48#32
  let v4648 : BitVec 32 := Scalar.addi v4647 c48_i32_2834
  let v4650 : Index := Scalar.indexCast v4648
  ![0, 0, v4650.toNat]
def k0_mult1635 (v4651 : BitVec 32) : BitVec 32 :=
  v4651

def k0_mult1636 (i : grid0.Coords) : BitVec 32 :=
  let arg1 : BitVec 32 := BitVec.ofNat 32 (i 1).val
  let c2_i32_2831 : BitVec 32 := 2#32
  let v4645 : BitVec 32 := Scalar.muli arg1 c2_i32_2831
  let c1_i32_2832 : BitVec 32 := 1#32
  let v4646 : BitVec 32 := Scalar.addi v4645 c1_i32_2832
  let c256_i32_2833 : BitVec 32 := 256#32
  let v4647 : BitVec 32 := Scalar.muli v4646 c256_i32_2833
  let c48_i32_2834 : BitVec 32 := 48#32
  let v4648 : BitVec 32 := Scalar.addi v4647 c48_i32_2834
  let c8_i32_2838 : BitVec 32 := 8#32
  let v4653 : BitVec 32 := Scalar.muli v4648 c8_i32_2838
  v4653
def k0_off3287 (i : grid0.Coords) : Fin 1 → Nat :=
  let c1_i32_2835 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4649 : BitVec 32 := Scalar.subi c1_i32_2835 v9
  ![v4649.toNat]
def k0_off3288 (i : grid0.Coords) : Fin 3 → Nat :=
  let c1_i32_2835 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4649 : BitVec 32 := Scalar.subi c1_i32_2835 v9
  let arg1 : BitVec 32 := BitVec.ofNat 32 (i 1).val
  let c2_i32_2831 : BitVec 32 := 2#32
  let v4645 : BitVec 32 := Scalar.muli arg1 c2_i32_2831
  let c1_i32_2832 : BitVec 32 := 1#32
  let v4646 : BitVec 32 := Scalar.addi v4645 c1_i32_2832
  let c256_i32_2833 : BitVec 32 := 256#32
  let v4647 : BitVec 32 := Scalar.muli v4646 c256_i32_2833
  let c48_i32_2834 : BitVec 32 := 48#32
  let v4648 : BitVec 32 := Scalar.addi v4647 c48_i32_2834
  let c8_i32_2838 : BitVec 32 := 8#32
  let v4653 : BitVec 32 := Scalar.muli v4648 c8_i32_2838
  let v4654 : BitVec 32 := v4653
  let c0_i32_2839 : BitVec 32 := 0#32
  ![v4649.toNat, v4654.toNat, 0]
def k0_off3289 (v4651 : BitVec 32) : Fin 2 → Nat :=
  let v4652 : BitVec 32 := v4651
  let c0_i32_2840 : BitVec 32 := 0#32
  ![v4652.toNat, 0]

def k0_chk818 (i : grid0.Coords) (v4651 : BitVec 32) : Prop :=
  (∀ (k0_h3 : k0_cond3 i = 1#1), 8 ∣ (k0_mult1635 v4651).toNat) ∧
  (∀ (k0_h3 : k0_cond3 i = 1#1), ∀ a, (k0_off3289 v4651) a + S8x128.size a ≤ S131072x128.size a)
theorem k0_mult1635_dvd : ∀ (i : grid0.Coords) (v4651 : BitVec 32) (k0_hw818 : k0_chk818 i v4651), ∀ (k0_h3 : k0_cond3 i = 1#1), 8 ∣ (k0_mult1635 v4651).toNat := fun i v4651 k0_hw818 k0_h3 => k0_hw818.1 k0_h3
theorem k0_off3289_inb : ∀ (i : grid0.Coords) (v4651 : BitVec 32) (k0_hw818 : k0_chk818 i v4651), ∀ (k0_h3 : k0_cond3 i = 1#1), ∀ a, (k0_off3289 v4651) a + S8x128.size a ≤ S131072x128.size a := fun i v4651 k0_hw818 k0_h3 => k0_hw818.2 k0_h3

def k0_off3290 (i : grid0.Coords) : Fin 3 → Nat :=
  let c0_2846 : Index := 0#32
  let c0_2847 : Index := 0#32
  let arg1 : BitVec 32 := BitVec.ofNat 32 (i 1).val
  let c2_i32_2841 : BitVec 32 := 2#32
  let v4660 : BitVec 32 := Scalar.muli arg1 c2_i32_2841
  let c1_i32_2842 : BitVec 32 := 1#32
  let v4661 : BitVec 32 := Scalar.addi v4660 c1_i32_2842
  let c256_i32_2843 : BitVec 32 := 256#32
  let v4662 : BitVec 32 := Scalar.muli v4661 c256_i32_2843
  let c49_i32_2844 : BitVec 32 := 49#32
  let v4663 : BitVec 32 := Scalar.addi v4662 c49_i32_2844
  let v4665 : Index := Scalar.indexCast v4663
  ![0, 0, v4665.toNat]
def k0_mult1637 (v4666 : BitVec 32) : BitVec 32 :=
  v4666

def k0_mult1638 (i : grid0.Coords) : BitVec 32 :=
  let arg1 : BitVec 32 := BitVec.ofNat 32 (i 1).val
  let c2_i32_2841 : BitVec 32 := 2#32
  let v4660 : BitVec 32 := Scalar.muli arg1 c2_i32_2841
  let c1_i32_2842 : BitVec 32 := 1#32
  let v4661 : BitVec 32 := Scalar.addi v4660 c1_i32_2842
  let c256_i32_2843 : BitVec 32 := 256#32
  let v4662 : BitVec 32 := Scalar.muli v4661 c256_i32_2843
  let c49_i32_2844 : BitVec 32 := 49#32
  let v4663 : BitVec 32 := Scalar.addi v4662 c49_i32_2844
  let c8_i32_2848 : BitVec 32 := 8#32
  let v4668 : BitVec 32 := Scalar.muli v4663 c8_i32_2848
  v4668
def k0_off3291 (i : grid0.Coords) : Fin 1 → Nat :=
  let c1_i32_2845 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4664 : BitVec 32 := Scalar.subi c1_i32_2845 v9
  ![v4664.toNat]
def k0_off3292 (i : grid0.Coords) : Fin 3 → Nat :=
  let c1_i32_2845 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4664 : BitVec 32 := Scalar.subi c1_i32_2845 v9
  let arg1 : BitVec 32 := BitVec.ofNat 32 (i 1).val
  let c2_i32_2841 : BitVec 32 := 2#32
  let v4660 : BitVec 32 := Scalar.muli arg1 c2_i32_2841
  let c1_i32_2842 : BitVec 32 := 1#32
  let v4661 : BitVec 32 := Scalar.addi v4660 c1_i32_2842
  let c256_i32_2843 : BitVec 32 := 256#32
  let v4662 : BitVec 32 := Scalar.muli v4661 c256_i32_2843
  let c49_i32_2844 : BitVec 32 := 49#32
  let v4663 : BitVec 32 := Scalar.addi v4662 c49_i32_2844
  let c8_i32_2848 : BitVec 32 := 8#32
  let v4668 : BitVec 32 := Scalar.muli v4663 c8_i32_2848
  let v4669 : BitVec 32 := v4668
  let c0_i32_2849 : BitVec 32 := 0#32
  ![v4664.toNat, v4669.toNat, 0]
def k0_off3293 (v4666 : BitVec 32) : Fin 2 → Nat :=
  let v4667 : BitVec 32 := v4666
  let c0_i32_2850 : BitVec 32 := 0#32
  ![v4667.toNat, 0]

def k0_chk819 (i : grid0.Coords) (v4666 : BitVec 32) : Prop :=
  (∀ (k0_h3 : k0_cond3 i = 1#1), 8 ∣ (k0_mult1637 v4666).toNat) ∧
  (∀ (k0_h3 : k0_cond3 i = 1#1), ∀ a, (k0_off3293 v4666) a + S8x128.size a ≤ S131072x128.size a)
theorem k0_mult1637_dvd : ∀ (i : grid0.Coords) (v4666 : BitVec 32) (k0_hw819 : k0_chk819 i v4666), ∀ (k0_h3 : k0_cond3 i = 1#1), 8 ∣ (k0_mult1637 v4666).toNat := fun i v4666 k0_hw819 k0_h3 => k0_hw819.1 k0_h3
theorem k0_off3293_inb : ∀ (i : grid0.Coords) (v4666 : BitVec 32) (k0_hw819 : k0_chk819 i v4666), ∀ (k0_h3 : k0_cond3 i = 1#1), ∀ a, (k0_off3293 v4666) a + S8x128.size a ≤ S131072x128.size a := fun i v4666 k0_hw819 k0_h3 => k0_hw819.2 k0_h3

def k0_off3294 (i : grid0.Coords) : Fin 3 → Nat :=
  let c0_2856 : Index := 0#32
  let c0_2857 : Index := 0#32
  let arg1 : BitVec 32 := BitVec.ofNat 32 (i 1).val
  let c2_i32_2851 : BitVec 32 := 2#32
  let v4675 : BitVec 32 := Scalar.muli arg1 c2_i32_2851
  let c1_i32_2852 : BitVec 32 := 1#32
  let v4676 : BitVec 32 := Scalar.addi v4675 c1_i32_2852
  let c256_i32_2853 : BitVec 32 := 256#32
  let v4677 : BitVec 32 := Scalar.muli v4676 c256_i32_2853
  let c50_i32_2854 : BitVec 32 := 50#32
  let v4678 : BitVec 32 := Scalar.addi v4677 c50_i32_2854
  let v4680 : Index := Scalar.indexCast v4678
  ![0, 0, v4680.toNat]
def k0_mult1639 (v4681 : BitVec 32) : BitVec 32 :=
  v4681

def k0_mult1640 (i : grid0.Coords) : BitVec 32 :=
  let arg1 : BitVec 32 := BitVec.ofNat 32 (i 1).val
  let c2_i32_2851 : BitVec 32 := 2#32
  let v4675 : BitVec 32 := Scalar.muli arg1 c2_i32_2851
  let c1_i32_2852 : BitVec 32 := 1#32
  let v4676 : BitVec 32 := Scalar.addi v4675 c1_i32_2852
  let c256_i32_2853 : BitVec 32 := 256#32
  let v4677 : BitVec 32 := Scalar.muli v4676 c256_i32_2853
  let c50_i32_2854 : BitVec 32 := 50#32
  let v4678 : BitVec 32 := Scalar.addi v4677 c50_i32_2854
  let c8_i32_2858 : BitVec 32 := 8#32
  let v4683 : BitVec 32 := Scalar.muli v4678 c8_i32_2858
  v4683
def k0_off3295 (i : grid0.Coords) : Fin 1 → Nat :=
  let c1_i32_2855 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4679 : BitVec 32 := Scalar.subi c1_i32_2855 v9
  ![v4679.toNat]
def k0_off3296 (i : grid0.Coords) : Fin 3 → Nat :=
  let c1_i32_2855 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4679 : BitVec 32 := Scalar.subi c1_i32_2855 v9
  let arg1 : BitVec 32 := BitVec.ofNat 32 (i 1).val
  let c2_i32_2851 : BitVec 32 := 2#32
  let v4675 : BitVec 32 := Scalar.muli arg1 c2_i32_2851
  let c1_i32_2852 : BitVec 32 := 1#32
  let v4676 : BitVec 32 := Scalar.addi v4675 c1_i32_2852
  let c256_i32_2853 : BitVec 32 := 256#32
  let v4677 : BitVec 32 := Scalar.muli v4676 c256_i32_2853
  let c50_i32_2854 : BitVec 32 := 50#32
  let v4678 : BitVec 32 := Scalar.addi v4677 c50_i32_2854
  let c8_i32_2858 : BitVec 32 := 8#32
  let v4683 : BitVec 32 := Scalar.muli v4678 c8_i32_2858
  let v4684 : BitVec 32 := v4683
  let c0_i32_2859 : BitVec 32 := 0#32
  ![v4679.toNat, v4684.toNat, 0]
def k0_off3297 (v4681 : BitVec 32) : Fin 2 → Nat :=
  let v4682 : BitVec 32 := v4681
  let c0_i32_2860 : BitVec 32 := 0#32
  ![v4682.toNat, 0]

def k0_chk820 (i : grid0.Coords) (v4681 : BitVec 32) : Prop :=
  (∀ (k0_h3 : k0_cond3 i = 1#1), 8 ∣ (k0_mult1639 v4681).toNat) ∧
  (∀ (k0_h3 : k0_cond3 i = 1#1), ∀ a, (k0_off3297 v4681) a + S8x128.size a ≤ S131072x128.size a)
theorem k0_mult1639_dvd : ∀ (i : grid0.Coords) (v4681 : BitVec 32) (k0_hw820 : k0_chk820 i v4681), ∀ (k0_h3 : k0_cond3 i = 1#1), 8 ∣ (k0_mult1639 v4681).toNat := fun i v4681 k0_hw820 k0_h3 => k0_hw820.1 k0_h3
theorem k0_off3297_inb : ∀ (i : grid0.Coords) (v4681 : BitVec 32) (k0_hw820 : k0_chk820 i v4681), ∀ (k0_h3 : k0_cond3 i = 1#1), ∀ a, (k0_off3297 v4681) a + S8x128.size a ≤ S131072x128.size a := fun i v4681 k0_hw820 k0_h3 => k0_hw820.2 k0_h3

def k0_off3298 (i : grid0.Coords) : Fin 3 → Nat :=
  let c0_2866 : Index := 0#32
  let c0_2867 : Index := 0#32
  let arg1 : BitVec 32 := BitVec.ofNat 32 (i 1).val
  let c2_i32_2861 : BitVec 32 := 2#32
  let v4690 : BitVec 32 := Scalar.muli arg1 c2_i32_2861
  let c1_i32_2862 : BitVec 32 := 1#32
  let v4691 : BitVec 32 := Scalar.addi v4690 c1_i32_2862
  let c256_i32_2863 : BitVec 32 := 256#32
  let v4692 : BitVec 32 := Scalar.muli v4691 c256_i32_2863
  let c51_i32_2864 : BitVec 32 := 51#32
  let v4693 : BitVec 32 := Scalar.addi v4692 c51_i32_2864
  let v4695 : Index := Scalar.indexCast v4693
  ![0, 0, v4695.toNat]
def k0_mult1641 (v4696 : BitVec 32) : BitVec 32 :=
  v4696

def k0_mult1642 (i : grid0.Coords) : BitVec 32 :=
  let arg1 : BitVec 32 := BitVec.ofNat 32 (i 1).val
  let c2_i32_2861 : BitVec 32 := 2#32
  let v4690 : BitVec 32 := Scalar.muli arg1 c2_i32_2861
  let c1_i32_2862 : BitVec 32 := 1#32
  let v4691 : BitVec 32 := Scalar.addi v4690 c1_i32_2862
  let c256_i32_2863 : BitVec 32 := 256#32
  let v4692 : BitVec 32 := Scalar.muli v4691 c256_i32_2863
  let c51_i32_2864 : BitVec 32 := 51#32
  let v4693 : BitVec 32 := Scalar.addi v4692 c51_i32_2864
  let c8_i32_2868 : BitVec 32 := 8#32
  let v4698 : BitVec 32 := Scalar.muli v4693 c8_i32_2868
  v4698
def k0_off3299 (i : grid0.Coords) : Fin 1 → Nat :=
  let c1_i32_2865 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4694 : BitVec 32 := Scalar.subi c1_i32_2865 v9
  ![v4694.toNat]
def k0_off3300 (i : grid0.Coords) : Fin 3 → Nat :=
  let c1_i32_2865 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4694 : BitVec 32 := Scalar.subi c1_i32_2865 v9
  let arg1 : BitVec 32 := BitVec.ofNat 32 (i 1).val
  let c2_i32_2861 : BitVec 32 := 2#32
  let v4690 : BitVec 32 := Scalar.muli arg1 c2_i32_2861
  let c1_i32_2862 : BitVec 32 := 1#32
  let v4691 : BitVec 32 := Scalar.addi v4690 c1_i32_2862
  let c256_i32_2863 : BitVec 32 := 256#32
  let v4692 : BitVec 32 := Scalar.muli v4691 c256_i32_2863
  let c51_i32_2864 : BitVec 32 := 51#32
  let v4693 : BitVec 32 := Scalar.addi v4692 c51_i32_2864
  let c8_i32_2868 : BitVec 32 := 8#32
  let v4698 : BitVec 32 := Scalar.muli v4693 c8_i32_2868
  let v4699 : BitVec 32 := v4698
  let c0_i32_2869 : BitVec 32 := 0#32
  ![v4694.toNat, v4699.toNat, 0]
def k0_off3301 (v4696 : BitVec 32) : Fin 2 → Nat :=
  let v4697 : BitVec 32 := v4696
  let c0_i32_2870 : BitVec 32 := 0#32
  ![v4697.toNat, 0]

def k0_chk821 (i : grid0.Coords) (v4696 : BitVec 32) : Prop :=
  (∀ (k0_h3 : k0_cond3 i = 1#1), 8 ∣ (k0_mult1641 v4696).toNat) ∧
  (∀ (k0_h3 : k0_cond3 i = 1#1), ∀ a, (k0_off3301 v4696) a + S8x128.size a ≤ S131072x128.size a)
theorem k0_mult1641_dvd : ∀ (i : grid0.Coords) (v4696 : BitVec 32) (k0_hw821 : k0_chk821 i v4696), ∀ (k0_h3 : k0_cond3 i = 1#1), 8 ∣ (k0_mult1641 v4696).toNat := fun i v4696 k0_hw821 k0_h3 => k0_hw821.1 k0_h3
theorem k0_off3301_inb : ∀ (i : grid0.Coords) (v4696 : BitVec 32) (k0_hw821 : k0_chk821 i v4696), ∀ (k0_h3 : k0_cond3 i = 1#1), ∀ a, (k0_off3301 v4696) a + S8x128.size a ≤ S131072x128.size a := fun i v4696 k0_hw821 k0_h3 => k0_hw821.2 k0_h3

def k0_off3302 (i : grid0.Coords) : Fin 3 → Nat :=
  let c0_2876 : Index := 0#32
  let c0_2877 : Index := 0#32
  let arg1 : BitVec 32 := BitVec.ofNat 32 (i 1).val
  let c2_i32_2871 : BitVec 32 := 2#32
  let v4705 : BitVec 32 := Scalar.muli arg1 c2_i32_2871
  let c1_i32_2872 : BitVec 32 := 1#32
  let v4706 : BitVec 32 := Scalar.addi v4705 c1_i32_2872
  let c256_i32_2873 : BitVec 32 := 256#32
  let v4707 : BitVec 32 := Scalar.muli v4706 c256_i32_2873
  let c52_i32_2874 : BitVec 32 := 52#32
  let v4708 : BitVec 32 := Scalar.addi v4707 c52_i32_2874
  let v4710 : Index := Scalar.indexCast v4708
  ![0, 0, v4710.toNat]
def k0_mult1643 (v4711 : BitVec 32) : BitVec 32 :=
  v4711

def k0_mult1644 (i : grid0.Coords) : BitVec 32 :=
  let arg1 : BitVec 32 := BitVec.ofNat 32 (i 1).val
  let c2_i32_2871 : BitVec 32 := 2#32
  let v4705 : BitVec 32 := Scalar.muli arg1 c2_i32_2871
  let c1_i32_2872 : BitVec 32 := 1#32
  let v4706 : BitVec 32 := Scalar.addi v4705 c1_i32_2872
  let c256_i32_2873 : BitVec 32 := 256#32
  let v4707 : BitVec 32 := Scalar.muli v4706 c256_i32_2873
  let c52_i32_2874 : BitVec 32 := 52#32
  let v4708 : BitVec 32 := Scalar.addi v4707 c52_i32_2874
  let c8_i32_2878 : BitVec 32 := 8#32
  let v4713 : BitVec 32 := Scalar.muli v4708 c8_i32_2878
  v4713
def k0_off3303 (i : grid0.Coords) : Fin 1 → Nat :=
  let c1_i32_2875 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4709 : BitVec 32 := Scalar.subi c1_i32_2875 v9
  ![v4709.toNat]
def k0_off3304 (i : grid0.Coords) : Fin 3 → Nat :=
  let c1_i32_2875 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4709 : BitVec 32 := Scalar.subi c1_i32_2875 v9
  let arg1 : BitVec 32 := BitVec.ofNat 32 (i 1).val
  let c2_i32_2871 : BitVec 32 := 2#32
  let v4705 : BitVec 32 := Scalar.muli arg1 c2_i32_2871
  let c1_i32_2872 : BitVec 32 := 1#32
  let v4706 : BitVec 32 := Scalar.addi v4705 c1_i32_2872
  let c256_i32_2873 : BitVec 32 := 256#32
  let v4707 : BitVec 32 := Scalar.muli v4706 c256_i32_2873
  let c52_i32_2874 : BitVec 32 := 52#32
  let v4708 : BitVec 32 := Scalar.addi v4707 c52_i32_2874
  let c8_i32_2878 : BitVec 32 := 8#32
  let v4713 : BitVec 32 := Scalar.muli v4708 c8_i32_2878
  let v4714 : BitVec 32 := v4713
  let c0_i32_2879 : BitVec 32 := 0#32
  ![v4709.toNat, v4714.toNat, 0]
def k0_off3305 (v4711 : BitVec 32) : Fin 2 → Nat :=
  let v4712 : BitVec 32 := v4711
  let c0_i32_2880 : BitVec 32 := 0#32
  ![v4712.toNat, 0]

def k0_chk822 (i : grid0.Coords) (v4711 : BitVec 32) : Prop :=
  (∀ (k0_h3 : k0_cond3 i = 1#1), 8 ∣ (k0_mult1643 v4711).toNat) ∧
  (∀ (k0_h3 : k0_cond3 i = 1#1), ∀ a, (k0_off3305 v4711) a + S8x128.size a ≤ S131072x128.size a)
theorem k0_mult1643_dvd : ∀ (i : grid0.Coords) (v4711 : BitVec 32) (k0_hw822 : k0_chk822 i v4711), ∀ (k0_h3 : k0_cond3 i = 1#1), 8 ∣ (k0_mult1643 v4711).toNat := fun i v4711 k0_hw822 k0_h3 => k0_hw822.1 k0_h3
theorem k0_off3305_inb : ∀ (i : grid0.Coords) (v4711 : BitVec 32) (k0_hw822 : k0_chk822 i v4711), ∀ (k0_h3 : k0_cond3 i = 1#1), ∀ a, (k0_off3305 v4711) a + S8x128.size a ≤ S131072x128.size a := fun i v4711 k0_hw822 k0_h3 => k0_hw822.2 k0_h3

def k0_off3306 (i : grid0.Coords) : Fin 3 → Nat :=
  let c0_2886 : Index := 0#32
  let c0_2887 : Index := 0#32
  let arg1 : BitVec 32 := BitVec.ofNat 32 (i 1).val
  let c2_i32_2881 : BitVec 32 := 2#32
  let v4720 : BitVec 32 := Scalar.muli arg1 c2_i32_2881
  let c1_i32_2882 : BitVec 32 := 1#32
  let v4721 : BitVec 32 := Scalar.addi v4720 c1_i32_2882
  let c256_i32_2883 : BitVec 32 := 256#32
  let v4722 : BitVec 32 := Scalar.muli v4721 c256_i32_2883
  let c53_i32_2884 : BitVec 32 := 53#32
  let v4723 : BitVec 32 := Scalar.addi v4722 c53_i32_2884
  let v4725 : Index := Scalar.indexCast v4723
  ![0, 0, v4725.toNat]
def k0_mult1645 (v4726 : BitVec 32) : BitVec 32 :=
  v4726

def k0_mult1646 (i : grid0.Coords) : BitVec 32 :=
  let arg1 : BitVec 32 := BitVec.ofNat 32 (i 1).val
  let c2_i32_2881 : BitVec 32 := 2#32
  let v4720 : BitVec 32 := Scalar.muli arg1 c2_i32_2881
  let c1_i32_2882 : BitVec 32 := 1#32
  let v4721 : BitVec 32 := Scalar.addi v4720 c1_i32_2882
  let c256_i32_2883 : BitVec 32 := 256#32
  let v4722 : BitVec 32 := Scalar.muli v4721 c256_i32_2883
  let c53_i32_2884 : BitVec 32 := 53#32
  let v4723 : BitVec 32 := Scalar.addi v4722 c53_i32_2884
  let c8_i32_2888 : BitVec 32 := 8#32
  let v4728 : BitVec 32 := Scalar.muli v4723 c8_i32_2888
  v4728
def k0_off3307 (i : grid0.Coords) : Fin 1 → Nat :=
  let c1_i32_2885 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4724 : BitVec 32 := Scalar.subi c1_i32_2885 v9
  ![v4724.toNat]
def k0_off3308 (i : grid0.Coords) : Fin 3 → Nat :=
  let c1_i32_2885 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4724 : BitVec 32 := Scalar.subi c1_i32_2885 v9
  let arg1 : BitVec 32 := BitVec.ofNat 32 (i 1).val
  let c2_i32_2881 : BitVec 32 := 2#32
  let v4720 : BitVec 32 := Scalar.muli arg1 c2_i32_2881
  let c1_i32_2882 : BitVec 32 := 1#32
  let v4721 : BitVec 32 := Scalar.addi v4720 c1_i32_2882
  let c256_i32_2883 : BitVec 32 := 256#32
  let v4722 : BitVec 32 := Scalar.muli v4721 c256_i32_2883
  let c53_i32_2884 : BitVec 32 := 53#32
  let v4723 : BitVec 32 := Scalar.addi v4722 c53_i32_2884
  let c8_i32_2888 : BitVec 32 := 8#32
  let v4728 : BitVec 32 := Scalar.muli v4723 c8_i32_2888
  let v4729 : BitVec 32 := v4728
  let c0_i32_2889 : BitVec 32 := 0#32
  ![v4724.toNat, v4729.toNat, 0]
def k0_off3309 (v4726 : BitVec 32) : Fin 2 → Nat :=
  let v4727 : BitVec 32 := v4726
  let c0_i32_2890 : BitVec 32 := 0#32
  ![v4727.toNat, 0]

def k0_chk823 (i : grid0.Coords) (v4726 : BitVec 32) : Prop :=
  (∀ (k0_h3 : k0_cond3 i = 1#1), 8 ∣ (k0_mult1645 v4726).toNat) ∧
  (∀ (k0_h3 : k0_cond3 i = 1#1), ∀ a, (k0_off3309 v4726) a + S8x128.size a ≤ S131072x128.size a)
theorem k0_mult1645_dvd : ∀ (i : grid0.Coords) (v4726 : BitVec 32) (k0_hw823 : k0_chk823 i v4726), ∀ (k0_h3 : k0_cond3 i = 1#1), 8 ∣ (k0_mult1645 v4726).toNat := fun i v4726 k0_hw823 k0_h3 => k0_hw823.1 k0_h3
theorem k0_off3309_inb : ∀ (i : grid0.Coords) (v4726 : BitVec 32) (k0_hw823 : k0_chk823 i v4726), ∀ (k0_h3 : k0_cond3 i = 1#1), ∀ a, (k0_off3309 v4726) a + S8x128.size a ≤ S131072x128.size a := fun i v4726 k0_hw823 k0_h3 => k0_hw823.2 k0_h3

def k0_off3310 (i : grid0.Coords) : Fin 3 → Nat :=
  let c0_2896 : Index := 0#32
  let c0_2897 : Index := 0#32
  let arg1 : BitVec 32 := BitVec.ofNat 32 (i 1).val
  let c2_i32_2891 : BitVec 32 := 2#32
  let v4735 : BitVec 32 := Scalar.muli arg1 c2_i32_2891
  let c1_i32_2892 : BitVec 32 := 1#32
  let v4736 : BitVec 32 := Scalar.addi v4735 c1_i32_2892
  let c256_i32_2893 : BitVec 32 := 256#32
  let v4737 : BitVec 32 := Scalar.muli v4736 c256_i32_2893
  let c54_i32_2894 : BitVec 32 := 54#32
  let v4738 : BitVec 32 := Scalar.addi v4737 c54_i32_2894
  let v4740 : Index := Scalar.indexCast v4738
  ![0, 0, v4740.toNat]
def k0_mult1647 (v4741 : BitVec 32) : BitVec 32 :=
  v4741

def k0_mult1648 (i : grid0.Coords) : BitVec 32 :=
  let arg1 : BitVec 32 := BitVec.ofNat 32 (i 1).val
  let c2_i32_2891 : BitVec 32 := 2#32
  let v4735 : BitVec 32 := Scalar.muli arg1 c2_i32_2891
  let c1_i32_2892 : BitVec 32 := 1#32
  let v4736 : BitVec 32 := Scalar.addi v4735 c1_i32_2892
  let c256_i32_2893 : BitVec 32 := 256#32
  let v4737 : BitVec 32 := Scalar.muli v4736 c256_i32_2893
  let c54_i32_2894 : BitVec 32 := 54#32
  let v4738 : BitVec 32 := Scalar.addi v4737 c54_i32_2894
  let c8_i32_2898 : BitVec 32 := 8#32
  let v4743 : BitVec 32 := Scalar.muli v4738 c8_i32_2898
  v4743
def k0_off3311 (i : grid0.Coords) : Fin 1 → Nat :=
  let c1_i32_2895 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4739 : BitVec 32 := Scalar.subi c1_i32_2895 v9
  ![v4739.toNat]
def k0_off3312 (i : grid0.Coords) : Fin 3 → Nat :=
  let c1_i32_2895 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4739 : BitVec 32 := Scalar.subi c1_i32_2895 v9
  let arg1 : BitVec 32 := BitVec.ofNat 32 (i 1).val
  let c2_i32_2891 : BitVec 32 := 2#32
  let v4735 : BitVec 32 := Scalar.muli arg1 c2_i32_2891
  let c1_i32_2892 : BitVec 32 := 1#32
  let v4736 : BitVec 32 := Scalar.addi v4735 c1_i32_2892
  let c256_i32_2893 : BitVec 32 := 256#32
  let v4737 : BitVec 32 := Scalar.muli v4736 c256_i32_2893
  let c54_i32_2894 : BitVec 32 := 54#32
  let v4738 : BitVec 32 := Scalar.addi v4737 c54_i32_2894
  let c8_i32_2898 : BitVec 32 := 8#32
  let v4743 : BitVec 32 := Scalar.muli v4738 c8_i32_2898
  let v4744 : BitVec 32 := v4743
  let c0_i32_2899 : BitVec 32 := 0#32
  ![v4739.toNat, v4744.toNat, 0]
def k0_off3313 (v4741 : BitVec 32) : Fin 2 → Nat :=
  let v4742 : BitVec 32 := v4741
  let c0_i32_2900 : BitVec 32 := 0#32
  ![v4742.toNat, 0]

def k0_chk824 (i : grid0.Coords) (v4741 : BitVec 32) : Prop :=
  (∀ (k0_h3 : k0_cond3 i = 1#1), 8 ∣ (k0_mult1647 v4741).toNat) ∧
  (∀ (k0_h3 : k0_cond3 i = 1#1), ∀ a, (k0_off3313 v4741) a + S8x128.size a ≤ S131072x128.size a)
theorem k0_mult1647_dvd : ∀ (i : grid0.Coords) (v4741 : BitVec 32) (k0_hw824 : k0_chk824 i v4741), ∀ (k0_h3 : k0_cond3 i = 1#1), 8 ∣ (k0_mult1647 v4741).toNat := fun i v4741 k0_hw824 k0_h3 => k0_hw824.1 k0_h3
theorem k0_off3313_inb : ∀ (i : grid0.Coords) (v4741 : BitVec 32) (k0_hw824 : k0_chk824 i v4741), ∀ (k0_h3 : k0_cond3 i = 1#1), ∀ a, (k0_off3313 v4741) a + S8x128.size a ≤ S131072x128.size a := fun i v4741 k0_hw824 k0_h3 => k0_hw824.2 k0_h3

def k0_off3314 (i : grid0.Coords) : Fin 3 → Nat :=
  let c0_2906 : Index := 0#32
  let c0_2907 : Index := 0#32
  let arg1 : BitVec 32 := BitVec.ofNat 32 (i 1).val
  let c2_i32_2901 : BitVec 32 := 2#32
  let v4750 : BitVec 32 := Scalar.muli arg1 c2_i32_2901
  let c1_i32_2902 : BitVec 32 := 1#32
  let v4751 : BitVec 32 := Scalar.addi v4750 c1_i32_2902
  let c256_i32_2903 : BitVec 32 := 256#32
  let v4752 : BitVec 32 := Scalar.muli v4751 c256_i32_2903
  let c55_i32_2904 : BitVec 32 := 55#32
  let v4753 : BitVec 32 := Scalar.addi v4752 c55_i32_2904
  let v4755 : Index := Scalar.indexCast v4753
  ![0, 0, v4755.toNat]
def k0_mult1649 (v4756 : BitVec 32) : BitVec 32 :=
  v4756

def k0_mult1650 (i : grid0.Coords) : BitVec 32 :=
  let arg1 : BitVec 32 := BitVec.ofNat 32 (i 1).val
  let c2_i32_2901 : BitVec 32 := 2#32
  let v4750 : BitVec 32 := Scalar.muli arg1 c2_i32_2901
  let c1_i32_2902 : BitVec 32 := 1#32
  let v4751 : BitVec 32 := Scalar.addi v4750 c1_i32_2902
  let c256_i32_2903 : BitVec 32 := 256#32
  let v4752 : BitVec 32 := Scalar.muli v4751 c256_i32_2903
  let c55_i32_2904 : BitVec 32 := 55#32
  let v4753 : BitVec 32 := Scalar.addi v4752 c55_i32_2904
  let c8_i32_2908 : BitVec 32 := 8#32
  let v4758 : BitVec 32 := Scalar.muli v4753 c8_i32_2908
  v4758
def k0_off3315 (i : grid0.Coords) : Fin 1 → Nat :=
  let c1_i32_2905 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4754 : BitVec 32 := Scalar.subi c1_i32_2905 v9
  ![v4754.toNat]
def k0_off3316 (i : grid0.Coords) : Fin 3 → Nat :=
  let c1_i32_2905 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4754 : BitVec 32 := Scalar.subi c1_i32_2905 v9
  let arg1 : BitVec 32 := BitVec.ofNat 32 (i 1).val
  let c2_i32_2901 : BitVec 32 := 2#32
  let v4750 : BitVec 32 := Scalar.muli arg1 c2_i32_2901
  let c1_i32_2902 : BitVec 32 := 1#32
  let v4751 : BitVec 32 := Scalar.addi v4750 c1_i32_2902
  let c256_i32_2903 : BitVec 32 := 256#32
  let v4752 : BitVec 32 := Scalar.muli v4751 c256_i32_2903
  let c55_i32_2904 : BitVec 32 := 55#32
  let v4753 : BitVec 32 := Scalar.addi v4752 c55_i32_2904
  let c8_i32_2908 : BitVec 32 := 8#32
  let v4758 : BitVec 32 := Scalar.muli v4753 c8_i32_2908
  let v4759 : BitVec 32 := v4758
  let c0_i32_2909 : BitVec 32 := 0#32
  ![v4754.toNat, v4759.toNat, 0]
def k0_off3317 (v4756 : BitVec 32) : Fin 2 → Nat :=
  let v4757 : BitVec 32 := v4756
  let c0_i32_2910 : BitVec 32 := 0#32
  ![v4757.toNat, 0]

def k0_chk825 (i : grid0.Coords) (v4756 : BitVec 32) : Prop :=
  (∀ (k0_h3 : k0_cond3 i = 1#1), 8 ∣ (k0_mult1649 v4756).toNat) ∧
  (∀ (k0_h3 : k0_cond3 i = 1#1), ∀ a, (k0_off3317 v4756) a + S8x128.size a ≤ S131072x128.size a)
theorem k0_mult1649_dvd : ∀ (i : grid0.Coords) (v4756 : BitVec 32) (k0_hw825 : k0_chk825 i v4756), ∀ (k0_h3 : k0_cond3 i = 1#1), 8 ∣ (k0_mult1649 v4756).toNat := fun i v4756 k0_hw825 k0_h3 => k0_hw825.1 k0_h3
theorem k0_off3317_inb : ∀ (i : grid0.Coords) (v4756 : BitVec 32) (k0_hw825 : k0_chk825 i v4756), ∀ (k0_h3 : k0_cond3 i = 1#1), ∀ a, (k0_off3317 v4756) a + S8x128.size a ≤ S131072x128.size a := fun i v4756 k0_hw825 k0_h3 => k0_hw825.2 k0_h3

def k0_off3318 (i : grid0.Coords) : Fin 3 → Nat :=
  let c0_2916 : Index := 0#32
  let c0_2917 : Index := 0#32
  let arg1 : BitVec 32 := BitVec.ofNat 32 (i 1).val
  let c2_i32_2911 : BitVec 32 := 2#32
  let v4765 : BitVec 32 := Scalar.muli arg1 c2_i32_2911
  let c1_i32_2912 : BitVec 32 := 1#32
  let v4766 : BitVec 32 := Scalar.addi v4765 c1_i32_2912
  let c256_i32_2913 : BitVec 32 := 256#32
  let v4767 : BitVec 32 := Scalar.muli v4766 c256_i32_2913
  let c56_i32_2914 : BitVec 32 := 56#32
  let v4768 : BitVec 32 := Scalar.addi v4767 c56_i32_2914
  let v4770 : Index := Scalar.indexCast v4768
  ![0, 0, v4770.toNat]
def k0_mult1651 (v4771 : BitVec 32) : BitVec 32 :=
  v4771

def k0_mult1652 (i : grid0.Coords) : BitVec 32 :=
  let arg1 : BitVec 32 := BitVec.ofNat 32 (i 1).val
  let c2_i32_2911 : BitVec 32 := 2#32
  let v4765 : BitVec 32 := Scalar.muli arg1 c2_i32_2911
  let c1_i32_2912 : BitVec 32 := 1#32
  let v4766 : BitVec 32 := Scalar.addi v4765 c1_i32_2912
  let c256_i32_2913 : BitVec 32 := 256#32
  let v4767 : BitVec 32 := Scalar.muli v4766 c256_i32_2913
  let c56_i32_2914 : BitVec 32 := 56#32
  let v4768 : BitVec 32 := Scalar.addi v4767 c56_i32_2914
  let c8_i32_2918 : BitVec 32 := 8#32
  let v4773 : BitVec 32 := Scalar.muli v4768 c8_i32_2918
  v4773
def k0_off3319 (i : grid0.Coords) : Fin 1 → Nat :=
  let c1_i32_2915 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4769 : BitVec 32 := Scalar.subi c1_i32_2915 v9
  ![v4769.toNat]
def k0_off3320 (i : grid0.Coords) : Fin 3 → Nat :=
  let c1_i32_2915 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4769 : BitVec 32 := Scalar.subi c1_i32_2915 v9
  let arg1 : BitVec 32 := BitVec.ofNat 32 (i 1).val
  let c2_i32_2911 : BitVec 32 := 2#32
  let v4765 : BitVec 32 := Scalar.muli arg1 c2_i32_2911
  let c1_i32_2912 : BitVec 32 := 1#32
  let v4766 : BitVec 32 := Scalar.addi v4765 c1_i32_2912
  let c256_i32_2913 : BitVec 32 := 256#32
  let v4767 : BitVec 32 := Scalar.muli v4766 c256_i32_2913
  let c56_i32_2914 : BitVec 32 := 56#32
  let v4768 : BitVec 32 := Scalar.addi v4767 c56_i32_2914
  let c8_i32_2918 : BitVec 32 := 8#32
  let v4773 : BitVec 32 := Scalar.muli v4768 c8_i32_2918
  let v4774 : BitVec 32 := v4773
  let c0_i32_2919 : BitVec 32 := 0#32
  ![v4769.toNat, v4774.toNat, 0]
def k0_off3321 (v4771 : BitVec 32) : Fin 2 → Nat :=
  let v4772 : BitVec 32 := v4771
  let c0_i32_2920 : BitVec 32 := 0#32
  ![v4772.toNat, 0]

def k0_chk826 (i : grid0.Coords) (v4771 : BitVec 32) : Prop :=
  (∀ (k0_h3 : k0_cond3 i = 1#1), 8 ∣ (k0_mult1651 v4771).toNat) ∧
  (∀ (k0_h3 : k0_cond3 i = 1#1), ∀ a, (k0_off3321 v4771) a + S8x128.size a ≤ S131072x128.size a)
theorem k0_mult1651_dvd : ∀ (i : grid0.Coords) (v4771 : BitVec 32) (k0_hw826 : k0_chk826 i v4771), ∀ (k0_h3 : k0_cond3 i = 1#1), 8 ∣ (k0_mult1651 v4771).toNat := fun i v4771 k0_hw826 k0_h3 => k0_hw826.1 k0_h3
theorem k0_off3321_inb : ∀ (i : grid0.Coords) (v4771 : BitVec 32) (k0_hw826 : k0_chk826 i v4771), ∀ (k0_h3 : k0_cond3 i = 1#1), ∀ a, (k0_off3321 v4771) a + S8x128.size a ≤ S131072x128.size a := fun i v4771 k0_hw826 k0_h3 => k0_hw826.2 k0_h3

def k0_off3322 (i : grid0.Coords) : Fin 3 → Nat :=
  let c0_2926 : Index := 0#32
  let c0_2927 : Index := 0#32
  let arg1 : BitVec 32 := BitVec.ofNat 32 (i 1).val
  let c2_i32_2921 : BitVec 32 := 2#32
  let v4780 : BitVec 32 := Scalar.muli arg1 c2_i32_2921
  let c1_i32_2922 : BitVec 32 := 1#32
  let v4781 : BitVec 32 := Scalar.addi v4780 c1_i32_2922
  let c256_i32_2923 : BitVec 32 := 256#32
  let v4782 : BitVec 32 := Scalar.muli v4781 c256_i32_2923
  let c57_i32_2924 : BitVec 32 := 57#32
  let v4783 : BitVec 32 := Scalar.addi v4782 c57_i32_2924
  let v4785 : Index := Scalar.indexCast v4783
  ![0, 0, v4785.toNat]
def k0_mult1653 (v4786 : BitVec 32) : BitVec 32 :=
  v4786

def k0_mult1654 (i : grid0.Coords) : BitVec 32 :=
  let arg1 : BitVec 32 := BitVec.ofNat 32 (i 1).val
  let c2_i32_2921 : BitVec 32 := 2#32
  let v4780 : BitVec 32 := Scalar.muli arg1 c2_i32_2921
  let c1_i32_2922 : BitVec 32 := 1#32
  let v4781 : BitVec 32 := Scalar.addi v4780 c1_i32_2922
  let c256_i32_2923 : BitVec 32 := 256#32
  let v4782 : BitVec 32 := Scalar.muli v4781 c256_i32_2923
  let c57_i32_2924 : BitVec 32 := 57#32
  let v4783 : BitVec 32 := Scalar.addi v4782 c57_i32_2924
  let c8_i32_2928 : BitVec 32 := 8#32
  let v4788 : BitVec 32 := Scalar.muli v4783 c8_i32_2928
  v4788
def k0_off3323 (i : grid0.Coords) : Fin 1 → Nat :=
  let c1_i32_2925 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4784 : BitVec 32 := Scalar.subi c1_i32_2925 v9
  ![v4784.toNat]
def k0_off3324 (i : grid0.Coords) : Fin 3 → Nat :=
  let c1_i32_2925 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4784 : BitVec 32 := Scalar.subi c1_i32_2925 v9
  let arg1 : BitVec 32 := BitVec.ofNat 32 (i 1).val
  let c2_i32_2921 : BitVec 32 := 2#32
  let v4780 : BitVec 32 := Scalar.muli arg1 c2_i32_2921
  let c1_i32_2922 : BitVec 32 := 1#32
  let v4781 : BitVec 32 := Scalar.addi v4780 c1_i32_2922
  let c256_i32_2923 : BitVec 32 := 256#32
  let v4782 : BitVec 32 := Scalar.muli v4781 c256_i32_2923
  let c57_i32_2924 : BitVec 32 := 57#32
  let v4783 : BitVec 32 := Scalar.addi v4782 c57_i32_2924
  let c8_i32_2928 : BitVec 32 := 8#32
  let v4788 : BitVec 32 := Scalar.muli v4783 c8_i32_2928
  let v4789 : BitVec 32 := v4788
  let c0_i32_2929 : BitVec 32 := 0#32
  ![v4784.toNat, v4789.toNat, 0]
def k0_off3325 (v4786 : BitVec 32) : Fin 2 → Nat :=
  let v4787 : BitVec 32 := v4786
  let c0_i32_2930 : BitVec 32 := 0#32
  ![v4787.toNat, 0]

def k0_chk827 (i : grid0.Coords) (v4786 : BitVec 32) : Prop :=
  (∀ (k0_h3 : k0_cond3 i = 1#1), 8 ∣ (k0_mult1653 v4786).toNat) ∧
  (∀ (k0_h3 : k0_cond3 i = 1#1), ∀ a, (k0_off3325 v4786) a + S8x128.size a ≤ S131072x128.size a)
theorem k0_mult1653_dvd : ∀ (i : grid0.Coords) (v4786 : BitVec 32) (k0_hw827 : k0_chk827 i v4786), ∀ (k0_h3 : k0_cond3 i = 1#1), 8 ∣ (k0_mult1653 v4786).toNat := fun i v4786 k0_hw827 k0_h3 => k0_hw827.1 k0_h3
theorem k0_off3325_inb : ∀ (i : grid0.Coords) (v4786 : BitVec 32) (k0_hw827 : k0_chk827 i v4786), ∀ (k0_h3 : k0_cond3 i = 1#1), ∀ a, (k0_off3325 v4786) a + S8x128.size a ≤ S131072x128.size a := fun i v4786 k0_hw827 k0_h3 => k0_hw827.2 k0_h3

def k0_off3326 (i : grid0.Coords) : Fin 3 → Nat :=
  let c0_2936 : Index := 0#32
  let c0_2937 : Index := 0#32
  let arg1 : BitVec 32 := BitVec.ofNat 32 (i 1).val
  let c2_i32_2931 : BitVec 32 := 2#32
  let v4795 : BitVec 32 := Scalar.muli arg1 c2_i32_2931
  let c1_i32_2932 : BitVec 32 := 1#32
  let v4796 : BitVec 32 := Scalar.addi v4795 c1_i32_2932
  let c256_i32_2933 : BitVec 32 := 256#32
  let v4797 : BitVec 32 := Scalar.muli v4796 c256_i32_2933
  let c58_i32_2934 : BitVec 32 := 58#32
  let v4798 : BitVec 32 := Scalar.addi v4797 c58_i32_2934
  let v4800 : Index := Scalar.indexCast v4798
  ![0, 0, v4800.toNat]
def k0_mult1655 (v4801 : BitVec 32) : BitVec 32 :=
  v4801

def k0_mult1656 (i : grid0.Coords) : BitVec 32 :=
  let arg1 : BitVec 32 := BitVec.ofNat 32 (i 1).val
  let c2_i32_2931 : BitVec 32 := 2#32
  let v4795 : BitVec 32 := Scalar.muli arg1 c2_i32_2931
  let c1_i32_2932 : BitVec 32 := 1#32
  let v4796 : BitVec 32 := Scalar.addi v4795 c1_i32_2932
  let c256_i32_2933 : BitVec 32 := 256#32
  let v4797 : BitVec 32 := Scalar.muli v4796 c256_i32_2933
  let c58_i32_2934 : BitVec 32 := 58#32
  let v4798 : BitVec 32 := Scalar.addi v4797 c58_i32_2934
  let c8_i32_2938 : BitVec 32 := 8#32
  let v4803 : BitVec 32 := Scalar.muli v4798 c8_i32_2938
  v4803
def k0_off3327 (i : grid0.Coords) : Fin 1 → Nat :=
  let c1_i32_2935 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4799 : BitVec 32 := Scalar.subi c1_i32_2935 v9
  ![v4799.toNat]
def k0_off3328 (i : grid0.Coords) : Fin 3 → Nat :=
  let c1_i32_2935 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4799 : BitVec 32 := Scalar.subi c1_i32_2935 v9
  let arg1 : BitVec 32 := BitVec.ofNat 32 (i 1).val
  let c2_i32_2931 : BitVec 32 := 2#32
  let v4795 : BitVec 32 := Scalar.muli arg1 c2_i32_2931
  let c1_i32_2932 : BitVec 32 := 1#32
  let v4796 : BitVec 32 := Scalar.addi v4795 c1_i32_2932
  let c256_i32_2933 : BitVec 32 := 256#32
  let v4797 : BitVec 32 := Scalar.muli v4796 c256_i32_2933
  let c58_i32_2934 : BitVec 32 := 58#32
  let v4798 : BitVec 32 := Scalar.addi v4797 c58_i32_2934
  let c8_i32_2938 : BitVec 32 := 8#32
  let v4803 : BitVec 32 := Scalar.muli v4798 c8_i32_2938
  let v4804 : BitVec 32 := v4803
  let c0_i32_2939 : BitVec 32 := 0#32
  ![v4799.toNat, v4804.toNat, 0]
def k0_off3329 (v4801 : BitVec 32) : Fin 2 → Nat :=
  let v4802 : BitVec 32 := v4801
  let c0_i32_2940 : BitVec 32 := 0#32
  ![v4802.toNat, 0]

def k0_chk828 (i : grid0.Coords) (v4801 : BitVec 32) : Prop :=
  (∀ (k0_h3 : k0_cond3 i = 1#1), 8 ∣ (k0_mult1655 v4801).toNat) ∧
  (∀ (k0_h3 : k0_cond3 i = 1#1), ∀ a, (k0_off3329 v4801) a + S8x128.size a ≤ S131072x128.size a)
theorem k0_mult1655_dvd : ∀ (i : grid0.Coords) (v4801 : BitVec 32) (k0_hw828 : k0_chk828 i v4801), ∀ (k0_h3 : k0_cond3 i = 1#1), 8 ∣ (k0_mult1655 v4801).toNat := fun i v4801 k0_hw828 k0_h3 => k0_hw828.1 k0_h3
theorem k0_off3329_inb : ∀ (i : grid0.Coords) (v4801 : BitVec 32) (k0_hw828 : k0_chk828 i v4801), ∀ (k0_h3 : k0_cond3 i = 1#1), ∀ a, (k0_off3329 v4801) a + S8x128.size a ≤ S131072x128.size a := fun i v4801 k0_hw828 k0_h3 => k0_hw828.2 k0_h3

def k0_off3330 (i : grid0.Coords) : Fin 3 → Nat :=
  let c0_2946 : Index := 0#32
  let c0_2947 : Index := 0#32
  let arg1 : BitVec 32 := BitVec.ofNat 32 (i 1).val
  let c2_i32_2941 : BitVec 32 := 2#32
  let v4810 : BitVec 32 := Scalar.muli arg1 c2_i32_2941
  let c1_i32_2942 : BitVec 32 := 1#32
  let v4811 : BitVec 32 := Scalar.addi v4810 c1_i32_2942
  let c256_i32_2943 : BitVec 32 := 256#32
  let v4812 : BitVec 32 := Scalar.muli v4811 c256_i32_2943
  let c59_i32_2944 : BitVec 32 := 59#32
  let v4813 : BitVec 32 := Scalar.addi v4812 c59_i32_2944
  let v4815 : Index := Scalar.indexCast v4813
  ![0, 0, v4815.toNat]
def k0_mult1657 (v4816 : BitVec 32) : BitVec 32 :=
  v4816

def k0_mult1658 (i : grid0.Coords) : BitVec 32 :=
  let arg1 : BitVec 32 := BitVec.ofNat 32 (i 1).val
  let c2_i32_2941 : BitVec 32 := 2#32
  let v4810 : BitVec 32 := Scalar.muli arg1 c2_i32_2941
  let c1_i32_2942 : BitVec 32 := 1#32
  let v4811 : BitVec 32 := Scalar.addi v4810 c1_i32_2942
  let c256_i32_2943 : BitVec 32 := 256#32
  let v4812 : BitVec 32 := Scalar.muli v4811 c256_i32_2943
  let c59_i32_2944 : BitVec 32 := 59#32
  let v4813 : BitVec 32 := Scalar.addi v4812 c59_i32_2944
  let c8_i32_2948 : BitVec 32 := 8#32
  let v4818 : BitVec 32 := Scalar.muli v4813 c8_i32_2948
  v4818
def k0_off3331 (i : grid0.Coords) : Fin 1 → Nat :=
  let c1_i32_2945 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4814 : BitVec 32 := Scalar.subi c1_i32_2945 v9
  ![v4814.toNat]
def k0_off3332 (i : grid0.Coords) : Fin 3 → Nat :=
  let c1_i32_2945 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4814 : BitVec 32 := Scalar.subi c1_i32_2945 v9
  let arg1 : BitVec 32 := BitVec.ofNat 32 (i 1).val
  let c2_i32_2941 : BitVec 32 := 2#32
  let v4810 : BitVec 32 := Scalar.muli arg1 c2_i32_2941
  let c1_i32_2942 : BitVec 32 := 1#32
  let v4811 : BitVec 32 := Scalar.addi v4810 c1_i32_2942
  let c256_i32_2943 : BitVec 32 := 256#32
  let v4812 : BitVec 32 := Scalar.muli v4811 c256_i32_2943
  let c59_i32_2944 : BitVec 32 := 59#32
  let v4813 : BitVec 32 := Scalar.addi v4812 c59_i32_2944
  let c8_i32_2948 : BitVec 32 := 8#32
  let v4818 : BitVec 32 := Scalar.muli v4813 c8_i32_2948
  let v4819 : BitVec 32 := v4818
  let c0_i32_2949 : BitVec 32 := 0#32
  ![v4814.toNat, v4819.toNat, 0]
def k0_off3333 (v4816 : BitVec 32) : Fin 2 → Nat :=
  let v4817 : BitVec 32 := v4816
  let c0_i32_2950 : BitVec 32 := 0#32
  ![v4817.toNat, 0]

def k0_chk829 (i : grid0.Coords) (v4816 : BitVec 32) : Prop :=
  (∀ (k0_h3 : k0_cond3 i = 1#1), 8 ∣ (k0_mult1657 v4816).toNat) ∧
  (∀ (k0_h3 : k0_cond3 i = 1#1), ∀ a, (k0_off3333 v4816) a + S8x128.size a ≤ S131072x128.size a)
theorem k0_mult1657_dvd : ∀ (i : grid0.Coords) (v4816 : BitVec 32) (k0_hw829 : k0_chk829 i v4816), ∀ (k0_h3 : k0_cond3 i = 1#1), 8 ∣ (k0_mult1657 v4816).toNat := fun i v4816 k0_hw829 k0_h3 => k0_hw829.1 k0_h3
theorem k0_off3333_inb : ∀ (i : grid0.Coords) (v4816 : BitVec 32) (k0_hw829 : k0_chk829 i v4816), ∀ (k0_h3 : k0_cond3 i = 1#1), ∀ a, (k0_off3333 v4816) a + S8x128.size a ≤ S131072x128.size a := fun i v4816 k0_hw829 k0_h3 => k0_hw829.2 k0_h3

def k0_off3334 (i : grid0.Coords) : Fin 3 → Nat :=
  let c0_2956 : Index := 0#32
  let c0_2957 : Index := 0#32
  let arg1 : BitVec 32 := BitVec.ofNat 32 (i 1).val
  let c2_i32_2951 : BitVec 32 := 2#32
  let v4825 : BitVec 32 := Scalar.muli arg1 c2_i32_2951
  let c1_i32_2952 : BitVec 32 := 1#32
  let v4826 : BitVec 32 := Scalar.addi v4825 c1_i32_2952
  let c256_i32_2953 : BitVec 32 := 256#32
  let v4827 : BitVec 32 := Scalar.muli v4826 c256_i32_2953
  let c60_i32_2954 : BitVec 32 := 60#32
  let v4828 : BitVec 32 := Scalar.addi v4827 c60_i32_2954
  let v4830 : Index := Scalar.indexCast v4828
  ![0, 0, v4830.toNat]
def k0_mult1659 (v4831 : BitVec 32) : BitVec 32 :=
  v4831

def k0_mult1660 (i : grid0.Coords) : BitVec 32 :=
  let arg1 : BitVec 32 := BitVec.ofNat 32 (i 1).val
  let c2_i32_2951 : BitVec 32 := 2#32
  let v4825 : BitVec 32 := Scalar.muli arg1 c2_i32_2951
  let c1_i32_2952 : BitVec 32 := 1#32
  let v4826 : BitVec 32 := Scalar.addi v4825 c1_i32_2952
  let c256_i32_2953 : BitVec 32 := 256#32
  let v4827 : BitVec 32 := Scalar.muli v4826 c256_i32_2953
  let c60_i32_2954 : BitVec 32 := 60#32
  let v4828 : BitVec 32 := Scalar.addi v4827 c60_i32_2954
  let c8_i32_2958 : BitVec 32 := 8#32
  let v4833 : BitVec 32 := Scalar.muli v4828 c8_i32_2958
  v4833
def k0_off3335 (i : grid0.Coords) : Fin 1 → Nat :=
  let c1_i32_2955 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4829 : BitVec 32 := Scalar.subi c1_i32_2955 v9
  ![v4829.toNat]
def k0_off3336 (i : grid0.Coords) : Fin 3 → Nat :=
  let c1_i32_2955 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4829 : BitVec 32 := Scalar.subi c1_i32_2955 v9
  let arg1 : BitVec 32 := BitVec.ofNat 32 (i 1).val
  let c2_i32_2951 : BitVec 32 := 2#32
  let v4825 : BitVec 32 := Scalar.muli arg1 c2_i32_2951
  let c1_i32_2952 : BitVec 32 := 1#32
  let v4826 : BitVec 32 := Scalar.addi v4825 c1_i32_2952
  let c256_i32_2953 : BitVec 32 := 256#32
  let v4827 : BitVec 32 := Scalar.muli v4826 c256_i32_2953
  let c60_i32_2954 : BitVec 32 := 60#32
  let v4828 : BitVec 32 := Scalar.addi v4827 c60_i32_2954
  let c8_i32_2958 : BitVec 32 := 8#32
  let v4833 : BitVec 32 := Scalar.muli v4828 c8_i32_2958
  let v4834 : BitVec 32 := v4833
  let c0_i32_2959 : BitVec 32 := 0#32
  ![v4829.toNat, v4834.toNat, 0]
def k0_off3337 (v4831 : BitVec 32) : Fin 2 → Nat :=
  let v4832 : BitVec 32 := v4831
  let c0_i32_2960 : BitVec 32 := 0#32
  ![v4832.toNat, 0]

def k0_chk830 (i : grid0.Coords) (v4831 : BitVec 32) : Prop :=
  (∀ (k0_h3 : k0_cond3 i = 1#1), 8 ∣ (k0_mult1659 v4831).toNat) ∧
  (∀ (k0_h3 : k0_cond3 i = 1#1), ∀ a, (k0_off3337 v4831) a + S8x128.size a ≤ S131072x128.size a)
theorem k0_mult1659_dvd : ∀ (i : grid0.Coords) (v4831 : BitVec 32) (k0_hw830 : k0_chk830 i v4831), ∀ (k0_h3 : k0_cond3 i = 1#1), 8 ∣ (k0_mult1659 v4831).toNat := fun i v4831 k0_hw830 k0_h3 => k0_hw830.1 k0_h3
theorem k0_off3337_inb : ∀ (i : grid0.Coords) (v4831 : BitVec 32) (k0_hw830 : k0_chk830 i v4831), ∀ (k0_h3 : k0_cond3 i = 1#1), ∀ a, (k0_off3337 v4831) a + S8x128.size a ≤ S131072x128.size a := fun i v4831 k0_hw830 k0_h3 => k0_hw830.2 k0_h3

def k0_off3338 (i : grid0.Coords) : Fin 3 → Nat :=
  let c0_2966 : Index := 0#32
  let c0_2967 : Index := 0#32
  let arg1 : BitVec 32 := BitVec.ofNat 32 (i 1).val
  let c2_i32_2961 : BitVec 32 := 2#32
  let v4840 : BitVec 32 := Scalar.muli arg1 c2_i32_2961
  let c1_i32_2962 : BitVec 32 := 1#32
  let v4841 : BitVec 32 := Scalar.addi v4840 c1_i32_2962
  let c256_i32_2963 : BitVec 32 := 256#32
  let v4842 : BitVec 32 := Scalar.muli v4841 c256_i32_2963
  let c61_i32_2964 : BitVec 32 := 61#32
  let v4843 : BitVec 32 := Scalar.addi v4842 c61_i32_2964
  let v4845 : Index := Scalar.indexCast v4843
  ![0, 0, v4845.toNat]
def k0_mult1661 (v4846 : BitVec 32) : BitVec 32 :=
  v4846

def k0_mult1662 (i : grid0.Coords) : BitVec 32 :=
  let arg1 : BitVec 32 := BitVec.ofNat 32 (i 1).val
  let c2_i32_2961 : BitVec 32 := 2#32
  let v4840 : BitVec 32 := Scalar.muli arg1 c2_i32_2961
  let c1_i32_2962 : BitVec 32 := 1#32
  let v4841 : BitVec 32 := Scalar.addi v4840 c1_i32_2962
  let c256_i32_2963 : BitVec 32 := 256#32
  let v4842 : BitVec 32 := Scalar.muli v4841 c256_i32_2963
  let c61_i32_2964 : BitVec 32 := 61#32
  let v4843 : BitVec 32 := Scalar.addi v4842 c61_i32_2964
  let c8_i32_2968 : BitVec 32 := 8#32
  let v4848 : BitVec 32 := Scalar.muli v4843 c8_i32_2968
  v4848
def k0_off3339 (i : grid0.Coords) : Fin 1 → Nat :=
  let c1_i32_2965 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4844 : BitVec 32 := Scalar.subi c1_i32_2965 v9
  ![v4844.toNat]
def k0_off3340 (i : grid0.Coords) : Fin 3 → Nat :=
  let c1_i32_2965 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4844 : BitVec 32 := Scalar.subi c1_i32_2965 v9
  let arg1 : BitVec 32 := BitVec.ofNat 32 (i 1).val
  let c2_i32_2961 : BitVec 32 := 2#32
  let v4840 : BitVec 32 := Scalar.muli arg1 c2_i32_2961
  let c1_i32_2962 : BitVec 32 := 1#32
  let v4841 : BitVec 32 := Scalar.addi v4840 c1_i32_2962
  let c256_i32_2963 : BitVec 32 := 256#32
  let v4842 : BitVec 32 := Scalar.muli v4841 c256_i32_2963
  let c61_i32_2964 : BitVec 32 := 61#32
  let v4843 : BitVec 32 := Scalar.addi v4842 c61_i32_2964
  let c8_i32_2968 : BitVec 32 := 8#32
  let v4848 : BitVec 32 := Scalar.muli v4843 c8_i32_2968
  let v4849 : BitVec 32 := v4848
  let c0_i32_2969 : BitVec 32 := 0#32
  ![v4844.toNat, v4849.toNat, 0]
def k0_off3341 (v4846 : BitVec 32) : Fin 2 → Nat :=
  let v4847 : BitVec 32 := v4846
  let c0_i32_2970 : BitVec 32 := 0#32
  ![v4847.toNat, 0]

def k0_chk831 (i : grid0.Coords) (v4846 : BitVec 32) : Prop :=
  (∀ (k0_h3 : k0_cond3 i = 1#1), 8 ∣ (k0_mult1661 v4846).toNat) ∧
  (∀ (k0_h3 : k0_cond3 i = 1#1), ∀ a, (k0_off3341 v4846) a + S8x128.size a ≤ S131072x128.size a)
theorem k0_mult1661_dvd : ∀ (i : grid0.Coords) (v4846 : BitVec 32) (k0_hw831 : k0_chk831 i v4846), ∀ (k0_h3 : k0_cond3 i = 1#1), 8 ∣ (k0_mult1661 v4846).toNat := fun i v4846 k0_hw831 k0_h3 => k0_hw831.1 k0_h3
theorem k0_off3341_inb : ∀ (i : grid0.Coords) (v4846 : BitVec 32) (k0_hw831 : k0_chk831 i v4846), ∀ (k0_h3 : k0_cond3 i = 1#1), ∀ a, (k0_off3341 v4846) a + S8x128.size a ≤ S131072x128.size a := fun i v4846 k0_hw831 k0_h3 => k0_hw831.2 k0_h3

def k0_off3342 (i : grid0.Coords) : Fin 3 → Nat :=
  let c0_2976 : Index := 0#32
  let c0_2977 : Index := 0#32
  let arg1 : BitVec 32 := BitVec.ofNat 32 (i 1).val
  let c2_i32_2971 : BitVec 32 := 2#32
  let v4855 : BitVec 32 := Scalar.muli arg1 c2_i32_2971
  let c1_i32_2972 : BitVec 32 := 1#32
  let v4856 : BitVec 32 := Scalar.addi v4855 c1_i32_2972
  let c256_i32_2973 : BitVec 32 := 256#32
  let v4857 : BitVec 32 := Scalar.muli v4856 c256_i32_2973
  let c62_i32_2974 : BitVec 32 := 62#32
  let v4858 : BitVec 32 := Scalar.addi v4857 c62_i32_2974
  let v4860 : Index := Scalar.indexCast v4858
  ![0, 0, v4860.toNat]
def k0_mult1663 (v4861 : BitVec 32) : BitVec 32 :=
  v4861

def k0_mult1664 (i : grid0.Coords) : BitVec 32 :=
  let arg1 : BitVec 32 := BitVec.ofNat 32 (i 1).val
  let c2_i32_2971 : BitVec 32 := 2#32
  let v4855 : BitVec 32 := Scalar.muli arg1 c2_i32_2971
  let c1_i32_2972 : BitVec 32 := 1#32
  let v4856 : BitVec 32 := Scalar.addi v4855 c1_i32_2972
  let c256_i32_2973 : BitVec 32 := 256#32
  let v4857 : BitVec 32 := Scalar.muli v4856 c256_i32_2973
  let c62_i32_2974 : BitVec 32 := 62#32
  let v4858 : BitVec 32 := Scalar.addi v4857 c62_i32_2974
  let c8_i32_2978 : BitVec 32 := 8#32
  let v4863 : BitVec 32 := Scalar.muli v4858 c8_i32_2978
  v4863
def k0_off3343 (i : grid0.Coords) : Fin 1 → Nat :=
  let c1_i32_2975 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4859 : BitVec 32 := Scalar.subi c1_i32_2975 v9
  ![v4859.toNat]
def k0_off3344 (i : grid0.Coords) : Fin 3 → Nat :=
  let c1_i32_2975 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4859 : BitVec 32 := Scalar.subi c1_i32_2975 v9
  let arg1 : BitVec 32 := BitVec.ofNat 32 (i 1).val
  let c2_i32_2971 : BitVec 32 := 2#32
  let v4855 : BitVec 32 := Scalar.muli arg1 c2_i32_2971
  let c1_i32_2972 : BitVec 32 := 1#32
  let v4856 : BitVec 32 := Scalar.addi v4855 c1_i32_2972
  let c256_i32_2973 : BitVec 32 := 256#32
  let v4857 : BitVec 32 := Scalar.muli v4856 c256_i32_2973
  let c62_i32_2974 : BitVec 32 := 62#32
  let v4858 : BitVec 32 := Scalar.addi v4857 c62_i32_2974
  let c8_i32_2978 : BitVec 32 := 8#32
  let v4863 : BitVec 32 := Scalar.muli v4858 c8_i32_2978
  let v4864 : BitVec 32 := v4863
  let c0_i32_2979 : BitVec 32 := 0#32
  ![v4859.toNat, v4864.toNat, 0]
def k0_off3345 (v4861 : BitVec 32) : Fin 2 → Nat :=
  let v4862 : BitVec 32 := v4861
  let c0_i32_2980 : BitVec 32 := 0#32
  ![v4862.toNat, 0]

def k0_chk832 (i : grid0.Coords) (v4861 : BitVec 32) : Prop :=
  (∀ (k0_h3 : k0_cond3 i = 1#1), 8 ∣ (k0_mult1663 v4861).toNat) ∧
  (∀ (k0_h3 : k0_cond3 i = 1#1), ∀ a, (k0_off3345 v4861) a + S8x128.size a ≤ S131072x128.size a)
theorem k0_mult1663_dvd : ∀ (i : grid0.Coords) (v4861 : BitVec 32) (k0_hw832 : k0_chk832 i v4861), ∀ (k0_h3 : k0_cond3 i = 1#1), 8 ∣ (k0_mult1663 v4861).toNat := fun i v4861 k0_hw832 k0_h3 => k0_hw832.1 k0_h3
theorem k0_off3345_inb : ∀ (i : grid0.Coords) (v4861 : BitVec 32) (k0_hw832 : k0_chk832 i v4861), ∀ (k0_h3 : k0_cond3 i = 1#1), ∀ a, (k0_off3345 v4861) a + S8x128.size a ≤ S131072x128.size a := fun i v4861 k0_hw832 k0_h3 => k0_hw832.2 k0_h3

def k0_off3346 (i : grid0.Coords) : Fin 3 → Nat :=
  let c0_2986 : Index := 0#32
  let c0_2987 : Index := 0#32
  let arg1 : BitVec 32 := BitVec.ofNat 32 (i 1).val
  let c2_i32_2981 : BitVec 32 := 2#32
  let v4870 : BitVec 32 := Scalar.muli arg1 c2_i32_2981
  let c1_i32_2982 : BitVec 32 := 1#32
  let v4871 : BitVec 32 := Scalar.addi v4870 c1_i32_2982
  let c256_i32_2983 : BitVec 32 := 256#32
  let v4872 : BitVec 32 := Scalar.muli v4871 c256_i32_2983
  let c63_i32_2984 : BitVec 32 := 63#32
  let v4873 : BitVec 32 := Scalar.addi v4872 c63_i32_2984
  let v4875 : Index := Scalar.indexCast v4873
  ![0, 0, v4875.toNat]
def k0_mult1665 (v4876 : BitVec 32) : BitVec 32 :=
  v4876

def k0_mult1666 (i : grid0.Coords) : BitVec 32 :=
  let arg1 : BitVec 32 := BitVec.ofNat 32 (i 1).val
  let c2_i32_2981 : BitVec 32 := 2#32
  let v4870 : BitVec 32 := Scalar.muli arg1 c2_i32_2981
  let c1_i32_2982 : BitVec 32 := 1#32
  let v4871 : BitVec 32 := Scalar.addi v4870 c1_i32_2982
  let c256_i32_2983 : BitVec 32 := 256#32
  let v4872 : BitVec 32 := Scalar.muli v4871 c256_i32_2983
  let c63_i32_2984 : BitVec 32 := 63#32
  let v4873 : BitVec 32 := Scalar.addi v4872 c63_i32_2984
  let c8_i32_2988 : BitVec 32 := 8#32
  let v4878 : BitVec 32 := Scalar.muli v4873 c8_i32_2988
  v4878
def k0_off3347 (i : grid0.Coords) : Fin 1 → Nat :=
  let c1_i32_2985 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4874 : BitVec 32 := Scalar.subi c1_i32_2985 v9
  ![v4874.toNat]
def k0_off3348 (i : grid0.Coords) : Fin 3 → Nat :=
  let c1_i32_2985 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4874 : BitVec 32 := Scalar.subi c1_i32_2985 v9
  let arg1 : BitVec 32 := BitVec.ofNat 32 (i 1).val
  let c2_i32_2981 : BitVec 32 := 2#32
  let v4870 : BitVec 32 := Scalar.muli arg1 c2_i32_2981
  let c1_i32_2982 : BitVec 32 := 1#32
  let v4871 : BitVec 32 := Scalar.addi v4870 c1_i32_2982
  let c256_i32_2983 : BitVec 32 := 256#32
  let v4872 : BitVec 32 := Scalar.muli v4871 c256_i32_2983
  let c63_i32_2984 : BitVec 32 := 63#32
  let v4873 : BitVec 32 := Scalar.addi v4872 c63_i32_2984
  let c8_i32_2988 : BitVec 32 := 8#32
  let v4878 : BitVec 32 := Scalar.muli v4873 c8_i32_2988
  let v4879 : BitVec 32 := v4878
  let c0_i32_2989 : BitVec 32 := 0#32
  ![v4874.toNat, v4879.toNat, 0]
def k0_off3349 (v4876 : BitVec 32) : Fin 2 → Nat :=
  let v4877 : BitVec 32 := v4876
  let c0_i32_2990 : BitVec 32 := 0#32
  ![v4877.toNat, 0]

def k0_chk833 (i : grid0.Coords) (v4876 : BitVec 32) : Prop :=
  (∀ (k0_h3 : k0_cond3 i = 1#1), 8 ∣ (k0_mult1665 v4876).toNat) ∧
  (∀ (k0_h3 : k0_cond3 i = 1#1), ∀ a, (k0_off3349 v4876) a + S8x128.size a ≤ S131072x128.size a)
theorem k0_mult1665_dvd : ∀ (i : grid0.Coords) (v4876 : BitVec 32) (k0_hw833 : k0_chk833 i v4876), ∀ (k0_h3 : k0_cond3 i = 1#1), 8 ∣ (k0_mult1665 v4876).toNat := fun i v4876 k0_hw833 k0_h3 => k0_hw833.1 k0_h3
theorem k0_off3349_inb : ∀ (i : grid0.Coords) (v4876 : BitVec 32) (k0_hw833 : k0_chk833 i v4876), ∀ (k0_h3 : k0_cond3 i = 1#1), ∀ a, (k0_off3349 v4876) a + S8x128.size a ≤ S131072x128.size a := fun i v4876 k0_hw833 k0_h3 => k0_hw833.2 k0_h3

def k0_off3350 (i : grid0.Coords) : Fin 3 → Nat :=
  let c0_2996 : Index := 0#32
  let c0_2997 : Index := 0#32
  let arg1 : BitVec 32 := BitVec.ofNat 32 (i 1).val
  let c2_i32_2991 : BitVec 32 := 2#32
  let v4885 : BitVec 32 := Scalar.muli arg1 c2_i32_2991
  let c1_i32_2992 : BitVec 32 := 1#32
  let v4886 : BitVec 32 := Scalar.addi v4885 c1_i32_2992
  let c256_i32_2993 : BitVec 32 := 256#32
  let v4887 : BitVec 32 := Scalar.muli v4886 c256_i32_2993
  let c64_i32_2994 : BitVec 32 := 64#32
  let v4888 : BitVec 32 := Scalar.addi v4887 c64_i32_2994
  let v4890 : Index := Scalar.indexCast v4888
  ![0, 0, v4890.toNat]
def k0_mult1667 (v4891 : BitVec 32) : BitVec 32 :=
  v4891

def k0_mult1668 (i : grid0.Coords) : BitVec 32 :=
  let arg1 : BitVec 32 := BitVec.ofNat 32 (i 1).val
  let c2_i32_2991 : BitVec 32 := 2#32
  let v4885 : BitVec 32 := Scalar.muli arg1 c2_i32_2991
  let c1_i32_2992 : BitVec 32 := 1#32
  let v4886 : BitVec 32 := Scalar.addi v4885 c1_i32_2992
  let c256_i32_2993 : BitVec 32 := 256#32
  let v4887 : BitVec 32 := Scalar.muli v4886 c256_i32_2993
  let c64_i32_2994 : BitVec 32 := 64#32
  let v4888 : BitVec 32 := Scalar.addi v4887 c64_i32_2994
  let c8_i32_2998 : BitVec 32 := 8#32
  let v4893 : BitVec 32 := Scalar.muli v4888 c8_i32_2998
  v4893
def k0_off3351 (i : grid0.Coords) : Fin 1 → Nat :=
  let c1_i32_2995 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4889 : BitVec 32 := Scalar.subi c1_i32_2995 v9
  ![v4889.toNat]
def k0_off3352 (i : grid0.Coords) : Fin 3 → Nat :=
  let c1_i32_2995 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4889 : BitVec 32 := Scalar.subi c1_i32_2995 v9
  let arg1 : BitVec 32 := BitVec.ofNat 32 (i 1).val
  let c2_i32_2991 : BitVec 32 := 2#32
  let v4885 : BitVec 32 := Scalar.muli arg1 c2_i32_2991
  let c1_i32_2992 : BitVec 32 := 1#32
  let v4886 : BitVec 32 := Scalar.addi v4885 c1_i32_2992
  let c256_i32_2993 : BitVec 32 := 256#32
  let v4887 : BitVec 32 := Scalar.muli v4886 c256_i32_2993
  let c64_i32_2994 : BitVec 32 := 64#32
  let v4888 : BitVec 32 := Scalar.addi v4887 c64_i32_2994
  let c8_i32_2998 : BitVec 32 := 8#32
  let v4893 : BitVec 32 := Scalar.muli v4888 c8_i32_2998
  let v4894 : BitVec 32 := v4893
  let c0_i32_2999 : BitVec 32 := 0#32
  ![v4889.toNat, v4894.toNat, 0]
def k0_off3353 (v4891 : BitVec 32) : Fin 2 → Nat :=
  let v4892 : BitVec 32 := v4891
  let c0_i32_3000 : BitVec 32 := 0#32
  ![v4892.toNat, 0]

def k0_chk834 (i : grid0.Coords) (v4891 : BitVec 32) : Prop :=
  (∀ (k0_h3 : k0_cond3 i = 1#1), 8 ∣ (k0_mult1667 v4891).toNat) ∧
  (∀ (k0_h3 : k0_cond3 i = 1#1), ∀ a, (k0_off3353 v4891) a + S8x128.size a ≤ S131072x128.size a)
theorem k0_mult1667_dvd : ∀ (i : grid0.Coords) (v4891 : BitVec 32) (k0_hw834 : k0_chk834 i v4891), ∀ (k0_h3 : k0_cond3 i = 1#1), 8 ∣ (k0_mult1667 v4891).toNat := fun i v4891 k0_hw834 k0_h3 => k0_hw834.1 k0_h3
theorem k0_off3353_inb : ∀ (i : grid0.Coords) (v4891 : BitVec 32) (k0_hw834 : k0_chk834 i v4891), ∀ (k0_h3 : k0_cond3 i = 1#1), ∀ a, (k0_off3353 v4891) a + S8x128.size a ≤ S131072x128.size a := fun i v4891 k0_hw834 k0_h3 => k0_hw834.2 k0_h3

def k0_off3354 (i : grid0.Coords) : Fin 3 → Nat :=
  let c0_3006 : Index := 0#32
  let c0_3007 : Index := 0#32
  let arg1 : BitVec 32 := BitVec.ofNat 32 (i 1).val
  let c2_i32_3001 : BitVec 32 := 2#32
  let v4900 : BitVec 32 := Scalar.muli arg1 c2_i32_3001
  let c1_i32_3002 : BitVec 32 := 1#32
  let v4901 : BitVec 32 := Scalar.addi v4900 c1_i32_3002
  let c256_i32_3003 : BitVec 32 := 256#32
  let v4902 : BitVec 32 := Scalar.muli v4901 c256_i32_3003
  let c65_i32_3004 : BitVec 32 := 65#32
  let v4903 : BitVec 32 := Scalar.addi v4902 c65_i32_3004
  let v4905 : Index := Scalar.indexCast v4903
  ![0, 0, v4905.toNat]
def k0_mult1669 (v4906 : BitVec 32) : BitVec 32 :=
  v4906

def k0_mult1670 (i : grid0.Coords) : BitVec 32 :=
  let arg1 : BitVec 32 := BitVec.ofNat 32 (i 1).val
  let c2_i32_3001 : BitVec 32 := 2#32
  let v4900 : BitVec 32 := Scalar.muli arg1 c2_i32_3001
  let c1_i32_3002 : BitVec 32 := 1#32
  let v4901 : BitVec 32 := Scalar.addi v4900 c1_i32_3002
  let c256_i32_3003 : BitVec 32 := 256#32
  let v4902 : BitVec 32 := Scalar.muli v4901 c256_i32_3003
  let c65_i32_3004 : BitVec 32 := 65#32
  let v4903 : BitVec 32 := Scalar.addi v4902 c65_i32_3004
  let c8_i32_3008 : BitVec 32 := 8#32
  let v4908 : BitVec 32 := Scalar.muli v4903 c8_i32_3008
  v4908
def k0_off3355 (i : grid0.Coords) : Fin 1 → Nat :=
  let c1_i32_3005 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4904 : BitVec 32 := Scalar.subi c1_i32_3005 v9
  ![v4904.toNat]
def k0_off3356 (i : grid0.Coords) : Fin 3 → Nat :=
  let c1_i32_3005 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4904 : BitVec 32 := Scalar.subi c1_i32_3005 v9
  let arg1 : BitVec 32 := BitVec.ofNat 32 (i 1).val
  let c2_i32_3001 : BitVec 32 := 2#32
  let v4900 : BitVec 32 := Scalar.muli arg1 c2_i32_3001
  let c1_i32_3002 : BitVec 32 := 1#32
  let v4901 : BitVec 32 := Scalar.addi v4900 c1_i32_3002
  let c256_i32_3003 : BitVec 32 := 256#32
  let v4902 : BitVec 32 := Scalar.muli v4901 c256_i32_3003
  let c65_i32_3004 : BitVec 32 := 65#32
  let v4903 : BitVec 32 := Scalar.addi v4902 c65_i32_3004
  let c8_i32_3008 : BitVec 32 := 8#32
  let v4908 : BitVec 32 := Scalar.muli v4903 c8_i32_3008
  let v4909 : BitVec 32 := v4908
  let c0_i32_3009 : BitVec 32 := 0#32
  ![v4904.toNat, v4909.toNat, 0]
def k0_off3357 (v4906 : BitVec 32) : Fin 2 → Nat :=
  let v4907 : BitVec 32 := v4906
  let c0_i32_3010 : BitVec 32 := 0#32
  ![v4907.toNat, 0]

def k0_chk835 (i : grid0.Coords) (v4906 : BitVec 32) : Prop :=
  (∀ (k0_h3 : k0_cond3 i = 1#1), 8 ∣ (k0_mult1669 v4906).toNat) ∧
  (∀ (k0_h3 : k0_cond3 i = 1#1), ∀ a, (k0_off3357 v4906) a + S8x128.size a ≤ S131072x128.size a)
theorem k0_mult1669_dvd : ∀ (i : grid0.Coords) (v4906 : BitVec 32) (k0_hw835 : k0_chk835 i v4906), ∀ (k0_h3 : k0_cond3 i = 1#1), 8 ∣ (k0_mult1669 v4906).toNat := fun i v4906 k0_hw835 k0_h3 => k0_hw835.1 k0_h3
theorem k0_off3357_inb : ∀ (i : grid0.Coords) (v4906 : BitVec 32) (k0_hw835 : k0_chk835 i v4906), ∀ (k0_h3 : k0_cond3 i = 1#1), ∀ a, (k0_off3357 v4906) a + S8x128.size a ≤ S131072x128.size a := fun i v4906 k0_hw835 k0_h3 => k0_hw835.2 k0_h3

def k0_off3358 (i : grid0.Coords) : Fin 3 → Nat :=
  let c0_3016 : Index := 0#32
  let c0_3017 : Index := 0#32
  let arg1 : BitVec 32 := BitVec.ofNat 32 (i 1).val
  let c2_i32_3011 : BitVec 32 := 2#32
  let v4915 : BitVec 32 := Scalar.muli arg1 c2_i32_3011
  let c1_i32_3012 : BitVec 32 := 1#32
  let v4916 : BitVec 32 := Scalar.addi v4915 c1_i32_3012
  let c256_i32_3013 : BitVec 32 := 256#32
  let v4917 : BitVec 32 := Scalar.muli v4916 c256_i32_3013
  let c66_i32_3014 : BitVec 32 := 66#32
  let v4918 : BitVec 32 := Scalar.addi v4917 c66_i32_3014
  let v4920 : Index := Scalar.indexCast v4918
  ![0, 0, v4920.toNat]
def k0_mult1671 (v4921 : BitVec 32) : BitVec 32 :=
  v4921

def k0_mult1672 (i : grid0.Coords) : BitVec 32 :=
  let arg1 : BitVec 32 := BitVec.ofNat 32 (i 1).val
  let c2_i32_3011 : BitVec 32 := 2#32
  let v4915 : BitVec 32 := Scalar.muli arg1 c2_i32_3011
  let c1_i32_3012 : BitVec 32 := 1#32
  let v4916 : BitVec 32 := Scalar.addi v4915 c1_i32_3012
  let c256_i32_3013 : BitVec 32 := 256#32
  let v4917 : BitVec 32 := Scalar.muli v4916 c256_i32_3013
  let c66_i32_3014 : BitVec 32 := 66#32
  let v4918 : BitVec 32 := Scalar.addi v4917 c66_i32_3014
  let c8_i32_3018 : BitVec 32 := 8#32
  let v4923 : BitVec 32 := Scalar.muli v4918 c8_i32_3018
  v4923
def k0_off3359 (i : grid0.Coords) : Fin 1 → Nat :=
  let c1_i32_3015 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4919 : BitVec 32 := Scalar.subi c1_i32_3015 v9
  ![v4919.toNat]
def k0_off3360 (i : grid0.Coords) : Fin 3 → Nat :=
  let c1_i32_3015 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4919 : BitVec 32 := Scalar.subi c1_i32_3015 v9
  let arg1 : BitVec 32 := BitVec.ofNat 32 (i 1).val
  let c2_i32_3011 : BitVec 32 := 2#32
  let v4915 : BitVec 32 := Scalar.muli arg1 c2_i32_3011
  let c1_i32_3012 : BitVec 32 := 1#32
  let v4916 : BitVec 32 := Scalar.addi v4915 c1_i32_3012
  let c256_i32_3013 : BitVec 32 := 256#32
  let v4917 : BitVec 32 := Scalar.muli v4916 c256_i32_3013
  let c66_i32_3014 : BitVec 32 := 66#32
  let v4918 : BitVec 32 := Scalar.addi v4917 c66_i32_3014
  let c8_i32_3018 : BitVec 32 := 8#32
  let v4923 : BitVec 32 := Scalar.muli v4918 c8_i32_3018
  let v4924 : BitVec 32 := v4923
  let c0_i32_3019 : BitVec 32 := 0#32
  ![v4919.toNat, v4924.toNat, 0]
def k0_off3361 (v4921 : BitVec 32) : Fin 2 → Nat :=
  let v4922 : BitVec 32 := v4921
  let c0_i32_3020 : BitVec 32 := 0#32
  ![v4922.toNat, 0]

def k0_chk836 (i : grid0.Coords) (v4921 : BitVec 32) : Prop :=
  (∀ (k0_h3 : k0_cond3 i = 1#1), 8 ∣ (k0_mult1671 v4921).toNat) ∧
  (∀ (k0_h3 : k0_cond3 i = 1#1), ∀ a, (k0_off3361 v4921) a + S8x128.size a ≤ S131072x128.size a)
theorem k0_mult1671_dvd : ∀ (i : grid0.Coords) (v4921 : BitVec 32) (k0_hw836 : k0_chk836 i v4921), ∀ (k0_h3 : k0_cond3 i = 1#1), 8 ∣ (k0_mult1671 v4921).toNat := fun i v4921 k0_hw836 k0_h3 => k0_hw836.1 k0_h3
theorem k0_off3361_inb : ∀ (i : grid0.Coords) (v4921 : BitVec 32) (k0_hw836 : k0_chk836 i v4921), ∀ (k0_h3 : k0_cond3 i = 1#1), ∀ a, (k0_off3361 v4921) a + S8x128.size a ≤ S131072x128.size a := fun i v4921 k0_hw836 k0_h3 => k0_hw836.2 k0_h3

def k0_off3362 (i : grid0.Coords) : Fin 3 → Nat :=
  let c0_3026 : Index := 0#32
  let c0_3027 : Index := 0#32
  let arg1 : BitVec 32 := BitVec.ofNat 32 (i 1).val
  let c2_i32_3021 : BitVec 32 := 2#32
  let v4930 : BitVec 32 := Scalar.muli arg1 c2_i32_3021
  let c1_i32_3022 : BitVec 32 := 1#32
  let v4931 : BitVec 32 := Scalar.addi v4930 c1_i32_3022
  let c256_i32_3023 : BitVec 32 := 256#32
  let v4932 : BitVec 32 := Scalar.muli v4931 c256_i32_3023
  let c67_i32_3024 : BitVec 32 := 67#32
  let v4933 : BitVec 32 := Scalar.addi v4932 c67_i32_3024
  let v4935 : Index := Scalar.indexCast v4933
  ![0, 0, v4935.toNat]
def k0_mult1673 (v4936 : BitVec 32) : BitVec 32 :=
  v4936

def k0_mult1674 (i : grid0.Coords) : BitVec 32 :=
  let arg1 : BitVec 32 := BitVec.ofNat 32 (i 1).val
  let c2_i32_3021 : BitVec 32 := 2#32
  let v4930 : BitVec 32 := Scalar.muli arg1 c2_i32_3021
  let c1_i32_3022 : BitVec 32 := 1#32
  let v4931 : BitVec 32 := Scalar.addi v4930 c1_i32_3022
  let c256_i32_3023 : BitVec 32 := 256#32
  let v4932 : BitVec 32 := Scalar.muli v4931 c256_i32_3023
  let c67_i32_3024 : BitVec 32 := 67#32
  let v4933 : BitVec 32 := Scalar.addi v4932 c67_i32_3024
  let c8_i32_3028 : BitVec 32 := 8#32
  let v4938 : BitVec 32 := Scalar.muli v4933 c8_i32_3028
  v4938
def k0_off3363 (i : grid0.Coords) : Fin 1 → Nat :=
  let c1_i32_3025 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4934 : BitVec 32 := Scalar.subi c1_i32_3025 v9
  ![v4934.toNat]
def k0_off3364 (i : grid0.Coords) : Fin 3 → Nat :=
  let c1_i32_3025 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4934 : BitVec 32 := Scalar.subi c1_i32_3025 v9
  let arg1 : BitVec 32 := BitVec.ofNat 32 (i 1).val
  let c2_i32_3021 : BitVec 32 := 2#32
  let v4930 : BitVec 32 := Scalar.muli arg1 c2_i32_3021
  let c1_i32_3022 : BitVec 32 := 1#32
  let v4931 : BitVec 32 := Scalar.addi v4930 c1_i32_3022
  let c256_i32_3023 : BitVec 32 := 256#32
  let v4932 : BitVec 32 := Scalar.muli v4931 c256_i32_3023
  let c67_i32_3024 : BitVec 32 := 67#32
  let v4933 : BitVec 32 := Scalar.addi v4932 c67_i32_3024
  let c8_i32_3028 : BitVec 32 := 8#32
  let v4938 : BitVec 32 := Scalar.muli v4933 c8_i32_3028
  let v4939 : BitVec 32 := v4938
  let c0_i32_3029 : BitVec 32 := 0#32
  ![v4934.toNat, v4939.toNat, 0]
def k0_off3365 (v4936 : BitVec 32) : Fin 2 → Nat :=
  let v4937 : BitVec 32 := v4936
  let c0_i32_3030 : BitVec 32 := 0#32
  ![v4937.toNat, 0]

def k0_chk837 (i : grid0.Coords) (v4936 : BitVec 32) : Prop :=
  (∀ (k0_h3 : k0_cond3 i = 1#1), 8 ∣ (k0_mult1673 v4936).toNat) ∧
  (∀ (k0_h3 : k0_cond3 i = 1#1), ∀ a, (k0_off3365 v4936) a + S8x128.size a ≤ S131072x128.size a)
theorem k0_mult1673_dvd : ∀ (i : grid0.Coords) (v4936 : BitVec 32) (k0_hw837 : k0_chk837 i v4936), ∀ (k0_h3 : k0_cond3 i = 1#1), 8 ∣ (k0_mult1673 v4936).toNat := fun i v4936 k0_hw837 k0_h3 => k0_hw837.1 k0_h3
theorem k0_off3365_inb : ∀ (i : grid0.Coords) (v4936 : BitVec 32) (k0_hw837 : k0_chk837 i v4936), ∀ (k0_h3 : k0_cond3 i = 1#1), ∀ a, (k0_off3365 v4936) a + S8x128.size a ≤ S131072x128.size a := fun i v4936 k0_hw837 k0_h3 => k0_hw837.2 k0_h3

def k0_off3366 (i : grid0.Coords) : Fin 3 → Nat :=
  let c0_3036 : Index := 0#32
  let c0_3037 : Index := 0#32
  let arg1 : BitVec 32 := BitVec.ofNat 32 (i 1).val
  let c2_i32_3031 : BitVec 32 := 2#32
  let v4945 : BitVec 32 := Scalar.muli arg1 c2_i32_3031
  let c1_i32_3032 : BitVec 32 := 1#32
  let v4946 : BitVec 32 := Scalar.addi v4945 c1_i32_3032
  let c256_i32_3033 : BitVec 32 := 256#32
  let v4947 : BitVec 32 := Scalar.muli v4946 c256_i32_3033
  let c68_i32_3034 : BitVec 32 := 68#32
  let v4948 : BitVec 32 := Scalar.addi v4947 c68_i32_3034
  let v4950 : Index := Scalar.indexCast v4948
  ![0, 0, v4950.toNat]
def k0_mult1675 (v4951 : BitVec 32) : BitVec 32 :=
  v4951

def k0_mult1676 (i : grid0.Coords) : BitVec 32 :=
  let arg1 : BitVec 32 := BitVec.ofNat 32 (i 1).val
  let c2_i32_3031 : BitVec 32 := 2#32
  let v4945 : BitVec 32 := Scalar.muli arg1 c2_i32_3031
  let c1_i32_3032 : BitVec 32 := 1#32
  let v4946 : BitVec 32 := Scalar.addi v4945 c1_i32_3032
  let c256_i32_3033 : BitVec 32 := 256#32
  let v4947 : BitVec 32 := Scalar.muli v4946 c256_i32_3033
  let c68_i32_3034 : BitVec 32 := 68#32
  let v4948 : BitVec 32 := Scalar.addi v4947 c68_i32_3034
  let c8_i32_3038 : BitVec 32 := 8#32
  let v4953 : BitVec 32 := Scalar.muli v4948 c8_i32_3038
  v4953
def k0_off3367 (i : grid0.Coords) : Fin 1 → Nat :=
  let c1_i32_3035 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4949 : BitVec 32 := Scalar.subi c1_i32_3035 v9
  ![v4949.toNat]
def k0_off3368 (i : grid0.Coords) : Fin 3 → Nat :=
  let c1_i32_3035 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4949 : BitVec 32 := Scalar.subi c1_i32_3035 v9
  let arg1 : BitVec 32 := BitVec.ofNat 32 (i 1).val
  let c2_i32_3031 : BitVec 32 := 2#32
  let v4945 : BitVec 32 := Scalar.muli arg1 c2_i32_3031
  let c1_i32_3032 : BitVec 32 := 1#32
  let v4946 : BitVec 32 := Scalar.addi v4945 c1_i32_3032
  let c256_i32_3033 : BitVec 32 := 256#32
  let v4947 : BitVec 32 := Scalar.muli v4946 c256_i32_3033
  let c68_i32_3034 : BitVec 32 := 68#32
  let v4948 : BitVec 32 := Scalar.addi v4947 c68_i32_3034
  let c8_i32_3038 : BitVec 32 := 8#32
  let v4953 : BitVec 32 := Scalar.muli v4948 c8_i32_3038
  let v4954 : BitVec 32 := v4953
  let c0_i32_3039 : BitVec 32 := 0#32
  ![v4949.toNat, v4954.toNat, 0]
def k0_off3369 (v4951 : BitVec 32) : Fin 2 → Nat :=
  let v4952 : BitVec 32 := v4951
  let c0_i32_3040 : BitVec 32 := 0#32
  ![v4952.toNat, 0]

def k0_chk838 (i : grid0.Coords) (v4951 : BitVec 32) : Prop :=
  (∀ (k0_h3 : k0_cond3 i = 1#1), 8 ∣ (k0_mult1675 v4951).toNat) ∧
  (∀ (k0_h3 : k0_cond3 i = 1#1), ∀ a, (k0_off3369 v4951) a + S8x128.size a ≤ S131072x128.size a)
theorem k0_mult1675_dvd : ∀ (i : grid0.Coords) (v4951 : BitVec 32) (k0_hw838 : k0_chk838 i v4951), ∀ (k0_h3 : k0_cond3 i = 1#1), 8 ∣ (k0_mult1675 v4951).toNat := fun i v4951 k0_hw838 k0_h3 => k0_hw838.1 k0_h3
theorem k0_off3369_inb : ∀ (i : grid0.Coords) (v4951 : BitVec 32) (k0_hw838 : k0_chk838 i v4951), ∀ (k0_h3 : k0_cond3 i = 1#1), ∀ a, (k0_off3369 v4951) a + S8x128.size a ≤ S131072x128.size a := fun i v4951 k0_hw838 k0_h3 => k0_hw838.2 k0_h3

def k0_off3370 (i : grid0.Coords) : Fin 3 → Nat :=
  let c0_3046 : Index := 0#32
  let c0_3047 : Index := 0#32
  let arg1 : BitVec 32 := BitVec.ofNat 32 (i 1).val
  let c2_i32_3041 : BitVec 32 := 2#32
  let v4960 : BitVec 32 := Scalar.muli arg1 c2_i32_3041
  let c1_i32_3042 : BitVec 32 := 1#32
  let v4961 : BitVec 32 := Scalar.addi v4960 c1_i32_3042
  let c256_i32_3043 : BitVec 32 := 256#32
  let v4962 : BitVec 32 := Scalar.muli v4961 c256_i32_3043
  let c69_i32_3044 : BitVec 32 := 69#32
  let v4963 : BitVec 32 := Scalar.addi v4962 c69_i32_3044
  let v4965 : Index := Scalar.indexCast v4963
  ![0, 0, v4965.toNat]
def k0_mult1677 (v4966 : BitVec 32) : BitVec 32 :=
  v4966

def k0_mult1678 (i : grid0.Coords) : BitVec 32 :=
  let arg1 : BitVec 32 := BitVec.ofNat 32 (i 1).val
  let c2_i32_3041 : BitVec 32 := 2#32
  let v4960 : BitVec 32 := Scalar.muli arg1 c2_i32_3041
  let c1_i32_3042 : BitVec 32 := 1#32
  let v4961 : BitVec 32 := Scalar.addi v4960 c1_i32_3042
  let c256_i32_3043 : BitVec 32 := 256#32
  let v4962 : BitVec 32 := Scalar.muli v4961 c256_i32_3043
  let c69_i32_3044 : BitVec 32 := 69#32
  let v4963 : BitVec 32 := Scalar.addi v4962 c69_i32_3044
  let c8_i32_3048 : BitVec 32 := 8#32
  let v4968 : BitVec 32 := Scalar.muli v4963 c8_i32_3048
  v4968
def k0_off3371 (i : grid0.Coords) : Fin 1 → Nat :=
  let c1_i32_3045 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4964 : BitVec 32 := Scalar.subi c1_i32_3045 v9
  ![v4964.toNat]
def k0_off3372 (i : grid0.Coords) : Fin 3 → Nat :=
  let c1_i32_3045 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4964 : BitVec 32 := Scalar.subi c1_i32_3045 v9
  let arg1 : BitVec 32 := BitVec.ofNat 32 (i 1).val
  let c2_i32_3041 : BitVec 32 := 2#32
  let v4960 : BitVec 32 := Scalar.muli arg1 c2_i32_3041
  let c1_i32_3042 : BitVec 32 := 1#32
  let v4961 : BitVec 32 := Scalar.addi v4960 c1_i32_3042
  let c256_i32_3043 : BitVec 32 := 256#32
  let v4962 : BitVec 32 := Scalar.muli v4961 c256_i32_3043
  let c69_i32_3044 : BitVec 32 := 69#32
  let v4963 : BitVec 32 := Scalar.addi v4962 c69_i32_3044
  let c8_i32_3048 : BitVec 32 := 8#32
  let v4968 : BitVec 32 := Scalar.muli v4963 c8_i32_3048
  let v4969 : BitVec 32 := v4968
  let c0_i32_3049 : BitVec 32 := 0#32
  ![v4964.toNat, v4969.toNat, 0]
def k0_off3373 (v4966 : BitVec 32) : Fin 2 → Nat :=
  let v4967 : BitVec 32 := v4966
  let c0_i32_3050 : BitVec 32 := 0#32
  ![v4967.toNat, 0]

def k0_chk839 (i : grid0.Coords) (v4966 : BitVec 32) : Prop :=
  (∀ (k0_h3 : k0_cond3 i = 1#1), 8 ∣ (k0_mult1677 v4966).toNat) ∧
  (∀ (k0_h3 : k0_cond3 i = 1#1), ∀ a, (k0_off3373 v4966) a + S8x128.size a ≤ S131072x128.size a)
theorem k0_mult1677_dvd : ∀ (i : grid0.Coords) (v4966 : BitVec 32) (k0_hw839 : k0_chk839 i v4966), ∀ (k0_h3 : k0_cond3 i = 1#1), 8 ∣ (k0_mult1677 v4966).toNat := fun i v4966 k0_hw839 k0_h3 => k0_hw839.1 k0_h3
theorem k0_off3373_inb : ∀ (i : grid0.Coords) (v4966 : BitVec 32) (k0_hw839 : k0_chk839 i v4966), ∀ (k0_h3 : k0_cond3 i = 1#1), ∀ a, (k0_off3373 v4966) a + S8x128.size a ≤ S131072x128.size a := fun i v4966 k0_hw839 k0_h3 => k0_hw839.2 k0_h3

def k0_off3374 (i : grid0.Coords) : Fin 3 → Nat :=
  let c0_3056 : Index := 0#32
  let c0_3057 : Index := 0#32
  let arg1 : BitVec 32 := BitVec.ofNat 32 (i 1).val
  let c2_i32_3051 : BitVec 32 := 2#32
  let v4975 : BitVec 32 := Scalar.muli arg1 c2_i32_3051
  let c1_i32_3052 : BitVec 32 := 1#32
  let v4976 : BitVec 32 := Scalar.addi v4975 c1_i32_3052
  let c256_i32_3053 : BitVec 32 := 256#32
  let v4977 : BitVec 32 := Scalar.muli v4976 c256_i32_3053
  let c70_i32_3054 : BitVec 32 := 70#32
  let v4978 : BitVec 32 := Scalar.addi v4977 c70_i32_3054
  let v4980 : Index := Scalar.indexCast v4978
  ![0, 0, v4980.toNat]
def k0_mult1679 (v4981 : BitVec 32) : BitVec 32 :=
  v4981

def k0_mult1680 (i : grid0.Coords) : BitVec 32 :=
  let arg1 : BitVec 32 := BitVec.ofNat 32 (i 1).val
  let c2_i32_3051 : BitVec 32 := 2#32
  let v4975 : BitVec 32 := Scalar.muli arg1 c2_i32_3051
  let c1_i32_3052 : BitVec 32 := 1#32
  let v4976 : BitVec 32 := Scalar.addi v4975 c1_i32_3052
  let c256_i32_3053 : BitVec 32 := 256#32
  let v4977 : BitVec 32 := Scalar.muli v4976 c256_i32_3053
  let c70_i32_3054 : BitVec 32 := 70#32
  let v4978 : BitVec 32 := Scalar.addi v4977 c70_i32_3054
  let c8_i32_3058 : BitVec 32 := 8#32
  let v4983 : BitVec 32 := Scalar.muli v4978 c8_i32_3058
  v4983
def k0_off3375 (i : grid0.Coords) : Fin 1 → Nat :=
  let c1_i32_3055 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4979 : BitVec 32 := Scalar.subi c1_i32_3055 v9
  ![v4979.toNat]
def k0_off3376 (i : grid0.Coords) : Fin 3 → Nat :=
  let c1_i32_3055 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4979 : BitVec 32 := Scalar.subi c1_i32_3055 v9
  let arg1 : BitVec 32 := BitVec.ofNat 32 (i 1).val
  let c2_i32_3051 : BitVec 32 := 2#32
  let v4975 : BitVec 32 := Scalar.muli arg1 c2_i32_3051
  let c1_i32_3052 : BitVec 32 := 1#32
  let v4976 : BitVec 32 := Scalar.addi v4975 c1_i32_3052
  let c256_i32_3053 : BitVec 32 := 256#32
  let v4977 : BitVec 32 := Scalar.muli v4976 c256_i32_3053
  let c70_i32_3054 : BitVec 32 := 70#32
  let v4978 : BitVec 32 := Scalar.addi v4977 c70_i32_3054
  let c8_i32_3058 : BitVec 32 := 8#32
  let v4983 : BitVec 32 := Scalar.muli v4978 c8_i32_3058
  let v4984 : BitVec 32 := v4983
  let c0_i32_3059 : BitVec 32 := 0#32
  ![v4979.toNat, v4984.toNat, 0]
def k0_off3377 (v4981 : BitVec 32) : Fin 2 → Nat :=
  let v4982 : BitVec 32 := v4981
  let c0_i32_3060 : BitVec 32 := 0#32
  ![v4982.toNat, 0]

def k0_chk840 (i : grid0.Coords) (v4981 : BitVec 32) : Prop :=
  (∀ (k0_h3 : k0_cond3 i = 1#1), 8 ∣ (k0_mult1679 v4981).toNat) ∧
  (∀ (k0_h3 : k0_cond3 i = 1#1), ∀ a, (k0_off3377 v4981) a + S8x128.size a ≤ S131072x128.size a)
theorem k0_mult1679_dvd : ∀ (i : grid0.Coords) (v4981 : BitVec 32) (k0_hw840 : k0_chk840 i v4981), ∀ (k0_h3 : k0_cond3 i = 1#1), 8 ∣ (k0_mult1679 v4981).toNat := fun i v4981 k0_hw840 k0_h3 => k0_hw840.1 k0_h3
theorem k0_off3377_inb : ∀ (i : grid0.Coords) (v4981 : BitVec 32) (k0_hw840 : k0_chk840 i v4981), ∀ (k0_h3 : k0_cond3 i = 1#1), ∀ a, (k0_off3377 v4981) a + S8x128.size a ≤ S131072x128.size a := fun i v4981 k0_hw840 k0_h3 => k0_hw840.2 k0_h3

def k0_off3378 (i : grid0.Coords) : Fin 3 → Nat :=
  let c0_3066 : Index := 0#32
  let c0_3067 : Index := 0#32
  let arg1 : BitVec 32 := BitVec.ofNat 32 (i 1).val
  let c2_i32_3061 : BitVec 32 := 2#32
  let v4990 : BitVec 32 := Scalar.muli arg1 c2_i32_3061
  let c1_i32_3062 : BitVec 32 := 1#32
  let v4991 : BitVec 32 := Scalar.addi v4990 c1_i32_3062
  let c256_i32_3063 : BitVec 32 := 256#32
  let v4992 : BitVec 32 := Scalar.muli v4991 c256_i32_3063
  let c71_i32_3064 : BitVec 32 := 71#32
  let v4993 : BitVec 32 := Scalar.addi v4992 c71_i32_3064
  let v4995 : Index := Scalar.indexCast v4993
  ![0, 0, v4995.toNat]
def k0_mult1681 (v4996 : BitVec 32) : BitVec 32 :=
  v4996

def k0_mult1682 (i : grid0.Coords) : BitVec 32 :=
  let arg1 : BitVec 32 := BitVec.ofNat 32 (i 1).val
  let c2_i32_3061 : BitVec 32 := 2#32
  let v4990 : BitVec 32 := Scalar.muli arg1 c2_i32_3061
  let c1_i32_3062 : BitVec 32 := 1#32
  let v4991 : BitVec 32 := Scalar.addi v4990 c1_i32_3062
  let c256_i32_3063 : BitVec 32 := 256#32
  let v4992 : BitVec 32 := Scalar.muli v4991 c256_i32_3063
  let c71_i32_3064 : BitVec 32 := 71#32
  let v4993 : BitVec 32 := Scalar.addi v4992 c71_i32_3064
  let c8_i32_3068 : BitVec 32 := 8#32
  let v4998 : BitVec 32 := Scalar.muli v4993 c8_i32_3068
  v4998
def k0_off3379 (i : grid0.Coords) : Fin 1 → Nat :=
  let c1_i32_3065 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4994 : BitVec 32 := Scalar.subi c1_i32_3065 v9
  ![v4994.toNat]
def k0_off3380 (i : grid0.Coords) : Fin 3 → Nat :=
  let c1_i32_3065 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v4994 : BitVec 32 := Scalar.subi c1_i32_3065 v9
  let arg1 : BitVec 32 := BitVec.ofNat 32 (i 1).val
  let c2_i32_3061 : BitVec 32 := 2#32
  let v4990 : BitVec 32 := Scalar.muli arg1 c2_i32_3061
  let c1_i32_3062 : BitVec 32 := 1#32
  let v4991 : BitVec 32 := Scalar.addi v4990 c1_i32_3062
  let c256_i32_3063 : BitVec 32 := 256#32
  let v4992 : BitVec 32 := Scalar.muli v4991 c256_i32_3063
  let c71_i32_3064 : BitVec 32 := 71#32
  let v4993 : BitVec 32 := Scalar.addi v4992 c71_i32_3064
  let c8_i32_3068 : BitVec 32 := 8#32
  let v4998 : BitVec 32 := Scalar.muli v4993 c8_i32_3068
  let v4999 : BitVec 32 := v4998
  let c0_i32_3069 : BitVec 32 := 0#32
  ![v4994.toNat, v4999.toNat, 0]
def k0_off3381 (v4996 : BitVec 32) : Fin 2 → Nat :=
  let v4997 : BitVec 32 := v4996
  let c0_i32_3070 : BitVec 32 := 0#32
  ![v4997.toNat, 0]

def k0_chk841 (i : grid0.Coords) (v4996 : BitVec 32) : Prop :=
  (∀ (k0_h3 : k0_cond3 i = 1#1), 8 ∣ (k0_mult1681 v4996).toNat) ∧
  (∀ (k0_h3 : k0_cond3 i = 1#1), ∀ a, (k0_off3381 v4996) a + S8x128.size a ≤ S131072x128.size a)
theorem k0_mult1681_dvd : ∀ (i : grid0.Coords) (v4996 : BitVec 32) (k0_hw841 : k0_chk841 i v4996), ∀ (k0_h3 : k0_cond3 i = 1#1), 8 ∣ (k0_mult1681 v4996).toNat := fun i v4996 k0_hw841 k0_h3 => k0_hw841.1 k0_h3
theorem k0_off3381_inb : ∀ (i : grid0.Coords) (v4996 : BitVec 32) (k0_hw841 : k0_chk841 i v4996), ∀ (k0_h3 : k0_cond3 i = 1#1), ∀ a, (k0_off3381 v4996) a + S8x128.size a ≤ S131072x128.size a := fun i v4996 k0_hw841 k0_h3 => k0_hw841.2 k0_h3

def k0_off3382 (i : grid0.Coords) : Fin 3 → Nat :=
  let c0_3076 : Index := 0#32
  let c0_3077 : Index := 0#32
  let arg1 : BitVec 32 := BitVec.ofNat 32 (i 1).val
  let c2_i32_3071 : BitVec 32 := 2#32
  let v5005 : BitVec 32 := Scalar.muli arg1 c2_i32_3071
  let c1_i32_3072 : BitVec 32 := 1#32
  let v5006 : BitVec 32 := Scalar.addi v5005 c1_i32_3072
  let c256_i32_3073 : BitVec 32 := 256#32
  let v5007 : BitVec 32 := Scalar.muli v5006 c256_i32_3073
  let c72_i32_3074 : BitVec 32 := 72#32
  let v5008 : BitVec 32 := Scalar.addi v5007 c72_i32_3074
  let v5010 : Index := Scalar.indexCast v5008
  ![0, 0, v5010.toNat]
def k0_mult1683 (v5011 : BitVec 32) : BitVec 32 :=
  v5011

def k0_mult1684 (i : grid0.Coords) : BitVec 32 :=
  let arg1 : BitVec 32 := BitVec.ofNat 32 (i 1).val
  let c2_i32_3071 : BitVec 32 := 2#32
  let v5005 : BitVec 32 := Scalar.muli arg1 c2_i32_3071
  let c1_i32_3072 : BitVec 32 := 1#32
  let v5006 : BitVec 32 := Scalar.addi v5005 c1_i32_3072
  let c256_i32_3073 : BitVec 32 := 256#32
  let v5007 : BitVec 32 := Scalar.muli v5006 c256_i32_3073
  let c72_i32_3074 : BitVec 32 := 72#32
  let v5008 : BitVec 32 := Scalar.addi v5007 c72_i32_3074
  let c8_i32_3078 : BitVec 32 := 8#32
  let v5013 : BitVec 32 := Scalar.muli v5008 c8_i32_3078
  v5013
def k0_off3383 (i : grid0.Coords) : Fin 1 → Nat :=
  let c1_i32_3075 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5009 : BitVec 32 := Scalar.subi c1_i32_3075 v9
  ![v5009.toNat]
def k0_off3384 (i : grid0.Coords) : Fin 3 → Nat :=
  let c1_i32_3075 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5009 : BitVec 32 := Scalar.subi c1_i32_3075 v9
  let arg1 : BitVec 32 := BitVec.ofNat 32 (i 1).val
  let c2_i32_3071 : BitVec 32 := 2#32
  let v5005 : BitVec 32 := Scalar.muli arg1 c2_i32_3071
  let c1_i32_3072 : BitVec 32 := 1#32
  let v5006 : BitVec 32 := Scalar.addi v5005 c1_i32_3072
  let c256_i32_3073 : BitVec 32 := 256#32
  let v5007 : BitVec 32 := Scalar.muli v5006 c256_i32_3073
  let c72_i32_3074 : BitVec 32 := 72#32
  let v5008 : BitVec 32 := Scalar.addi v5007 c72_i32_3074
  let c8_i32_3078 : BitVec 32 := 8#32
  let v5013 : BitVec 32 := Scalar.muli v5008 c8_i32_3078
  let v5014 : BitVec 32 := v5013
  let c0_i32_3079 : BitVec 32 := 0#32
  ![v5009.toNat, v5014.toNat, 0]
def k0_off3385 (v5011 : BitVec 32) : Fin 2 → Nat :=
  let v5012 : BitVec 32 := v5011
  let c0_i32_3080 : BitVec 32 := 0#32
  ![v5012.toNat, 0]

def k0_chk842 (i : grid0.Coords) (v5011 : BitVec 32) : Prop :=
  (∀ (k0_h3 : k0_cond3 i = 1#1), 8 ∣ (k0_mult1683 v5011).toNat) ∧
  (∀ (k0_h3 : k0_cond3 i = 1#1), ∀ a, (k0_off3385 v5011) a + S8x128.size a ≤ S131072x128.size a)
theorem k0_mult1683_dvd : ∀ (i : grid0.Coords) (v5011 : BitVec 32) (k0_hw842 : k0_chk842 i v5011), ∀ (k0_h3 : k0_cond3 i = 1#1), 8 ∣ (k0_mult1683 v5011).toNat := fun i v5011 k0_hw842 k0_h3 => k0_hw842.1 k0_h3
theorem k0_off3385_inb : ∀ (i : grid0.Coords) (v5011 : BitVec 32) (k0_hw842 : k0_chk842 i v5011), ∀ (k0_h3 : k0_cond3 i = 1#1), ∀ a, (k0_off3385 v5011) a + S8x128.size a ≤ S131072x128.size a := fun i v5011 k0_hw842 k0_h3 => k0_hw842.2 k0_h3

def k0_off3386 (i : grid0.Coords) : Fin 3 → Nat :=
  let c0_3086 : Index := 0#32
  let c0_3087 : Index := 0#32
  let arg1 : BitVec 32 := BitVec.ofNat 32 (i 1).val
  let c2_i32_3081 : BitVec 32 := 2#32
  let v5020 : BitVec 32 := Scalar.muli arg1 c2_i32_3081
  let c1_i32_3082 : BitVec 32 := 1#32
  let v5021 : BitVec 32 := Scalar.addi v5020 c1_i32_3082
  let c256_i32_3083 : BitVec 32 := 256#32
  let v5022 : BitVec 32 := Scalar.muli v5021 c256_i32_3083
  let c73_i32_3084 : BitVec 32 := 73#32
  let v5023 : BitVec 32 := Scalar.addi v5022 c73_i32_3084
  let v5025 : Index := Scalar.indexCast v5023
  ![0, 0, v5025.toNat]
def k0_mult1685 (v5026 : BitVec 32) : BitVec 32 :=
  v5026

def k0_mult1686 (i : grid0.Coords) : BitVec 32 :=
  let arg1 : BitVec 32 := BitVec.ofNat 32 (i 1).val
  let c2_i32_3081 : BitVec 32 := 2#32
  let v5020 : BitVec 32 := Scalar.muli arg1 c2_i32_3081
  let c1_i32_3082 : BitVec 32 := 1#32
  let v5021 : BitVec 32 := Scalar.addi v5020 c1_i32_3082
  let c256_i32_3083 : BitVec 32 := 256#32
  let v5022 : BitVec 32 := Scalar.muli v5021 c256_i32_3083
  let c73_i32_3084 : BitVec 32 := 73#32
  let v5023 : BitVec 32 := Scalar.addi v5022 c73_i32_3084
  let c8_i32_3088 : BitVec 32 := 8#32
  let v5028 : BitVec 32 := Scalar.muli v5023 c8_i32_3088
  v5028
def k0_off3387 (i : grid0.Coords) : Fin 1 → Nat :=
  let c1_i32_3085 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5024 : BitVec 32 := Scalar.subi c1_i32_3085 v9
  ![v5024.toNat]
def k0_off3388 (i : grid0.Coords) : Fin 3 → Nat :=
  let c1_i32_3085 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5024 : BitVec 32 := Scalar.subi c1_i32_3085 v9
  let arg1 : BitVec 32 := BitVec.ofNat 32 (i 1).val
  let c2_i32_3081 : BitVec 32 := 2#32
  let v5020 : BitVec 32 := Scalar.muli arg1 c2_i32_3081
  let c1_i32_3082 : BitVec 32 := 1#32
  let v5021 : BitVec 32 := Scalar.addi v5020 c1_i32_3082
  let c256_i32_3083 : BitVec 32 := 256#32
  let v5022 : BitVec 32 := Scalar.muli v5021 c256_i32_3083
  let c73_i32_3084 : BitVec 32 := 73#32
  let v5023 : BitVec 32 := Scalar.addi v5022 c73_i32_3084
  let c8_i32_3088 : BitVec 32 := 8#32
  let v5028 : BitVec 32 := Scalar.muli v5023 c8_i32_3088
  let v5029 : BitVec 32 := v5028
  let c0_i32_3089 : BitVec 32 := 0#32
  ![v5024.toNat, v5029.toNat, 0]
def k0_off3389 (v5026 : BitVec 32) : Fin 2 → Nat :=
  let v5027 : BitVec 32 := v5026
  let c0_i32_3090 : BitVec 32 := 0#32
  ![v5027.toNat, 0]

def k0_chk843 (i : grid0.Coords) (v5026 : BitVec 32) : Prop :=
  (∀ (k0_h3 : k0_cond3 i = 1#1), 8 ∣ (k0_mult1685 v5026).toNat) ∧
  (∀ (k0_h3 : k0_cond3 i = 1#1), ∀ a, (k0_off3389 v5026) a + S8x128.size a ≤ S131072x128.size a)
theorem k0_mult1685_dvd : ∀ (i : grid0.Coords) (v5026 : BitVec 32) (k0_hw843 : k0_chk843 i v5026), ∀ (k0_h3 : k0_cond3 i = 1#1), 8 ∣ (k0_mult1685 v5026).toNat := fun i v5026 k0_hw843 k0_h3 => k0_hw843.1 k0_h3
theorem k0_off3389_inb : ∀ (i : grid0.Coords) (v5026 : BitVec 32) (k0_hw843 : k0_chk843 i v5026), ∀ (k0_h3 : k0_cond3 i = 1#1), ∀ a, (k0_off3389 v5026) a + S8x128.size a ≤ S131072x128.size a := fun i v5026 k0_hw843 k0_h3 => k0_hw843.2 k0_h3

def k0_off3390 (i : grid0.Coords) : Fin 3 → Nat :=
  let c0_3096 : Index := 0#32
  let c0_3097 : Index := 0#32
  let arg1 : BitVec 32 := BitVec.ofNat 32 (i 1).val
  let c2_i32_3091 : BitVec 32 := 2#32
  let v5035 : BitVec 32 := Scalar.muli arg1 c2_i32_3091
  let c1_i32_3092 : BitVec 32 := 1#32
  let v5036 : BitVec 32 := Scalar.addi v5035 c1_i32_3092
  let c256_i32_3093 : BitVec 32 := 256#32
  let v5037 : BitVec 32 := Scalar.muli v5036 c256_i32_3093
  let c74_i32_3094 : BitVec 32 := 74#32
  let v5038 : BitVec 32 := Scalar.addi v5037 c74_i32_3094
  let v5040 : Index := Scalar.indexCast v5038
  ![0, 0, v5040.toNat]
def k0_mult1687 (v5041 : BitVec 32) : BitVec 32 :=
  v5041

def k0_mult1688 (i : grid0.Coords) : BitVec 32 :=
  let arg1 : BitVec 32 := BitVec.ofNat 32 (i 1).val
  let c2_i32_3091 : BitVec 32 := 2#32
  let v5035 : BitVec 32 := Scalar.muli arg1 c2_i32_3091
  let c1_i32_3092 : BitVec 32 := 1#32
  let v5036 : BitVec 32 := Scalar.addi v5035 c1_i32_3092
  let c256_i32_3093 : BitVec 32 := 256#32
  let v5037 : BitVec 32 := Scalar.muli v5036 c256_i32_3093
  let c74_i32_3094 : BitVec 32 := 74#32
  let v5038 : BitVec 32 := Scalar.addi v5037 c74_i32_3094
  let c8_i32_3098 : BitVec 32 := 8#32
  let v5043 : BitVec 32 := Scalar.muli v5038 c8_i32_3098
  v5043
def k0_off3391 (i : grid0.Coords) : Fin 1 → Nat :=
  let c1_i32_3095 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5039 : BitVec 32 := Scalar.subi c1_i32_3095 v9
  ![v5039.toNat]
def k0_off3392 (i : grid0.Coords) : Fin 3 → Nat :=
  let c1_i32_3095 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5039 : BitVec 32 := Scalar.subi c1_i32_3095 v9
  let arg1 : BitVec 32 := BitVec.ofNat 32 (i 1).val
  let c2_i32_3091 : BitVec 32 := 2#32
  let v5035 : BitVec 32 := Scalar.muli arg1 c2_i32_3091
  let c1_i32_3092 : BitVec 32 := 1#32
  let v5036 : BitVec 32 := Scalar.addi v5035 c1_i32_3092
  let c256_i32_3093 : BitVec 32 := 256#32
  let v5037 : BitVec 32 := Scalar.muli v5036 c256_i32_3093
  let c74_i32_3094 : BitVec 32 := 74#32
  let v5038 : BitVec 32 := Scalar.addi v5037 c74_i32_3094
  let c8_i32_3098 : BitVec 32 := 8#32
  let v5043 : BitVec 32 := Scalar.muli v5038 c8_i32_3098
  let v5044 : BitVec 32 := v5043
  let c0_i32_3099 : BitVec 32 := 0#32
  ![v5039.toNat, v5044.toNat, 0]
def k0_off3393 (v5041 : BitVec 32) : Fin 2 → Nat :=
  let v5042 : BitVec 32 := v5041
  let c0_i32_3100 : BitVec 32 := 0#32
  ![v5042.toNat, 0]

def k0_chk844 (i : grid0.Coords) (v5041 : BitVec 32) : Prop :=
  (∀ (k0_h3 : k0_cond3 i = 1#1), 8 ∣ (k0_mult1687 v5041).toNat) ∧
  (∀ (k0_h3 : k0_cond3 i = 1#1), ∀ a, (k0_off3393 v5041) a + S8x128.size a ≤ S131072x128.size a)
theorem k0_mult1687_dvd : ∀ (i : grid0.Coords) (v5041 : BitVec 32) (k0_hw844 : k0_chk844 i v5041), ∀ (k0_h3 : k0_cond3 i = 1#1), 8 ∣ (k0_mult1687 v5041).toNat := fun i v5041 k0_hw844 k0_h3 => k0_hw844.1 k0_h3
theorem k0_off3393_inb : ∀ (i : grid0.Coords) (v5041 : BitVec 32) (k0_hw844 : k0_chk844 i v5041), ∀ (k0_h3 : k0_cond3 i = 1#1), ∀ a, (k0_off3393 v5041) a + S8x128.size a ≤ S131072x128.size a := fun i v5041 k0_hw844 k0_h3 => k0_hw844.2 k0_h3

def k0_off3394 (i : grid0.Coords) : Fin 3 → Nat :=
  let c0_3106 : Index := 0#32
  let c0_3107 : Index := 0#32
  let arg1 : BitVec 32 := BitVec.ofNat 32 (i 1).val
  let c2_i32_3101 : BitVec 32 := 2#32
  let v5050 : BitVec 32 := Scalar.muli arg1 c2_i32_3101
  let c1_i32_3102 : BitVec 32 := 1#32
  let v5051 : BitVec 32 := Scalar.addi v5050 c1_i32_3102
  let c256_i32_3103 : BitVec 32 := 256#32
  let v5052 : BitVec 32 := Scalar.muli v5051 c256_i32_3103
  let c75_i32_3104 : BitVec 32 := 75#32
  let v5053 : BitVec 32 := Scalar.addi v5052 c75_i32_3104
  let v5055 : Index := Scalar.indexCast v5053
  ![0, 0, v5055.toNat]
def k0_mult1689 (v5056 : BitVec 32) : BitVec 32 :=
  v5056

def k0_mult1690 (i : grid0.Coords) : BitVec 32 :=
  let arg1 : BitVec 32 := BitVec.ofNat 32 (i 1).val
  let c2_i32_3101 : BitVec 32 := 2#32
  let v5050 : BitVec 32 := Scalar.muli arg1 c2_i32_3101
  let c1_i32_3102 : BitVec 32 := 1#32
  let v5051 : BitVec 32 := Scalar.addi v5050 c1_i32_3102
  let c256_i32_3103 : BitVec 32 := 256#32
  let v5052 : BitVec 32 := Scalar.muli v5051 c256_i32_3103
  let c75_i32_3104 : BitVec 32 := 75#32
  let v5053 : BitVec 32 := Scalar.addi v5052 c75_i32_3104
  let c8_i32_3108 : BitVec 32 := 8#32
  let v5058 : BitVec 32 := Scalar.muli v5053 c8_i32_3108
  v5058
def k0_off3395 (i : grid0.Coords) : Fin 1 → Nat :=
  let c1_i32_3105 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5054 : BitVec 32 := Scalar.subi c1_i32_3105 v9
  ![v5054.toNat]
def k0_off3396 (i : grid0.Coords) : Fin 3 → Nat :=
  let c1_i32_3105 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5054 : BitVec 32 := Scalar.subi c1_i32_3105 v9
  let arg1 : BitVec 32 := BitVec.ofNat 32 (i 1).val
  let c2_i32_3101 : BitVec 32 := 2#32
  let v5050 : BitVec 32 := Scalar.muli arg1 c2_i32_3101
  let c1_i32_3102 : BitVec 32 := 1#32
  let v5051 : BitVec 32 := Scalar.addi v5050 c1_i32_3102
  let c256_i32_3103 : BitVec 32 := 256#32
  let v5052 : BitVec 32 := Scalar.muli v5051 c256_i32_3103
  let c75_i32_3104 : BitVec 32 := 75#32
  let v5053 : BitVec 32 := Scalar.addi v5052 c75_i32_3104
  let c8_i32_3108 : BitVec 32 := 8#32
  let v5058 : BitVec 32 := Scalar.muli v5053 c8_i32_3108
  let v5059 : BitVec 32 := v5058
  let c0_i32_3109 : BitVec 32 := 0#32
  ![v5054.toNat, v5059.toNat, 0]
def k0_off3397 (v5056 : BitVec 32) : Fin 2 → Nat :=
  let v5057 : BitVec 32 := v5056
  let c0_i32_3110 : BitVec 32 := 0#32
  ![v5057.toNat, 0]

def k0_chk845 (i : grid0.Coords) (v5056 : BitVec 32) : Prop :=
  (∀ (k0_h3 : k0_cond3 i = 1#1), 8 ∣ (k0_mult1689 v5056).toNat) ∧
  (∀ (k0_h3 : k0_cond3 i = 1#1), ∀ a, (k0_off3397 v5056) a + S8x128.size a ≤ S131072x128.size a)
theorem k0_mult1689_dvd : ∀ (i : grid0.Coords) (v5056 : BitVec 32) (k0_hw845 : k0_chk845 i v5056), ∀ (k0_h3 : k0_cond3 i = 1#1), 8 ∣ (k0_mult1689 v5056).toNat := fun i v5056 k0_hw845 k0_h3 => k0_hw845.1 k0_h3
theorem k0_off3397_inb : ∀ (i : grid0.Coords) (v5056 : BitVec 32) (k0_hw845 : k0_chk845 i v5056), ∀ (k0_h3 : k0_cond3 i = 1#1), ∀ a, (k0_off3397 v5056) a + S8x128.size a ≤ S131072x128.size a := fun i v5056 k0_hw845 k0_h3 => k0_hw845.2 k0_h3

def k0_off3398 (i : grid0.Coords) : Fin 3 → Nat :=
  let c0_3116 : Index := 0#32
  let c0_3117 : Index := 0#32
  let arg1 : BitVec 32 := BitVec.ofNat 32 (i 1).val
  let c2_i32_3111 : BitVec 32 := 2#32
  let v5065 : BitVec 32 := Scalar.muli arg1 c2_i32_3111
  let c1_i32_3112 : BitVec 32 := 1#32
  let v5066 : BitVec 32 := Scalar.addi v5065 c1_i32_3112
  let c256_i32_3113 : BitVec 32 := 256#32
  let v5067 : BitVec 32 := Scalar.muli v5066 c256_i32_3113
  let c76_i32_3114 : BitVec 32 := 76#32
  let v5068 : BitVec 32 := Scalar.addi v5067 c76_i32_3114
  let v5070 : Index := Scalar.indexCast v5068
  ![0, 0, v5070.toNat]
def k0_mult1691 (v5071 : BitVec 32) : BitVec 32 :=
  v5071

def k0_mult1692 (i : grid0.Coords) : BitVec 32 :=
  let arg1 : BitVec 32 := BitVec.ofNat 32 (i 1).val
  let c2_i32_3111 : BitVec 32 := 2#32
  let v5065 : BitVec 32 := Scalar.muli arg1 c2_i32_3111
  let c1_i32_3112 : BitVec 32 := 1#32
  let v5066 : BitVec 32 := Scalar.addi v5065 c1_i32_3112
  let c256_i32_3113 : BitVec 32 := 256#32
  let v5067 : BitVec 32 := Scalar.muli v5066 c256_i32_3113
  let c76_i32_3114 : BitVec 32 := 76#32
  let v5068 : BitVec 32 := Scalar.addi v5067 c76_i32_3114
  let c8_i32_3118 : BitVec 32 := 8#32
  let v5073 : BitVec 32 := Scalar.muli v5068 c8_i32_3118
  v5073
def k0_off3399 (i : grid0.Coords) : Fin 1 → Nat :=
  let c1_i32_3115 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5069 : BitVec 32 := Scalar.subi c1_i32_3115 v9
  ![v5069.toNat]
def k0_off3400 (i : grid0.Coords) : Fin 3 → Nat :=
  let c1_i32_3115 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5069 : BitVec 32 := Scalar.subi c1_i32_3115 v9
  let arg1 : BitVec 32 := BitVec.ofNat 32 (i 1).val
  let c2_i32_3111 : BitVec 32 := 2#32
  let v5065 : BitVec 32 := Scalar.muli arg1 c2_i32_3111
  let c1_i32_3112 : BitVec 32 := 1#32
  let v5066 : BitVec 32 := Scalar.addi v5065 c1_i32_3112
  let c256_i32_3113 : BitVec 32 := 256#32
  let v5067 : BitVec 32 := Scalar.muli v5066 c256_i32_3113
  let c76_i32_3114 : BitVec 32 := 76#32
  let v5068 : BitVec 32 := Scalar.addi v5067 c76_i32_3114
  let c8_i32_3118 : BitVec 32 := 8#32
  let v5073 : BitVec 32 := Scalar.muli v5068 c8_i32_3118
  let v5074 : BitVec 32 := v5073
  let c0_i32_3119 : BitVec 32 := 0#32
  ![v5069.toNat, v5074.toNat, 0]
def k0_off3401 (v5071 : BitVec 32) : Fin 2 → Nat :=
  let v5072 : BitVec 32 := v5071
  let c0_i32_3120 : BitVec 32 := 0#32
  ![v5072.toNat, 0]

def k0_chk846 (i : grid0.Coords) (v5071 : BitVec 32) : Prop :=
  (∀ (k0_h3 : k0_cond3 i = 1#1), 8 ∣ (k0_mult1691 v5071).toNat) ∧
  (∀ (k0_h3 : k0_cond3 i = 1#1), ∀ a, (k0_off3401 v5071) a + S8x128.size a ≤ S131072x128.size a)
theorem k0_mult1691_dvd : ∀ (i : grid0.Coords) (v5071 : BitVec 32) (k0_hw846 : k0_chk846 i v5071), ∀ (k0_h3 : k0_cond3 i = 1#1), 8 ∣ (k0_mult1691 v5071).toNat := fun i v5071 k0_hw846 k0_h3 => k0_hw846.1 k0_h3
theorem k0_off3401_inb : ∀ (i : grid0.Coords) (v5071 : BitVec 32) (k0_hw846 : k0_chk846 i v5071), ∀ (k0_h3 : k0_cond3 i = 1#1), ∀ a, (k0_off3401 v5071) a + S8x128.size a ≤ S131072x128.size a := fun i v5071 k0_hw846 k0_h3 => k0_hw846.2 k0_h3

def k0_off3402 (i : grid0.Coords) : Fin 3 → Nat :=
  let c0_3126 : Index := 0#32
  let c0_3127 : Index := 0#32
  let arg1 : BitVec 32 := BitVec.ofNat 32 (i 1).val
  let c2_i32_3121 : BitVec 32 := 2#32
  let v5080 : BitVec 32 := Scalar.muli arg1 c2_i32_3121
  let c1_i32_3122 : BitVec 32 := 1#32
  let v5081 : BitVec 32 := Scalar.addi v5080 c1_i32_3122
  let c256_i32_3123 : BitVec 32 := 256#32
  let v5082 : BitVec 32 := Scalar.muli v5081 c256_i32_3123
  let c77_i32_3124 : BitVec 32 := 77#32
  let v5083 : BitVec 32 := Scalar.addi v5082 c77_i32_3124
  let v5085 : Index := Scalar.indexCast v5083
  ![0, 0, v5085.toNat]
def k0_mult1693 (v5086 : BitVec 32) : BitVec 32 :=
  v5086

def k0_mult1694 (i : grid0.Coords) : BitVec 32 :=
  let arg1 : BitVec 32 := BitVec.ofNat 32 (i 1).val
  let c2_i32_3121 : BitVec 32 := 2#32
  let v5080 : BitVec 32 := Scalar.muli arg1 c2_i32_3121
  let c1_i32_3122 : BitVec 32 := 1#32
  let v5081 : BitVec 32 := Scalar.addi v5080 c1_i32_3122
  let c256_i32_3123 : BitVec 32 := 256#32
  let v5082 : BitVec 32 := Scalar.muli v5081 c256_i32_3123
  let c77_i32_3124 : BitVec 32 := 77#32
  let v5083 : BitVec 32 := Scalar.addi v5082 c77_i32_3124
  let c8_i32_3128 : BitVec 32 := 8#32
  let v5088 : BitVec 32 := Scalar.muli v5083 c8_i32_3128
  v5088
def k0_off3403 (i : grid0.Coords) : Fin 1 → Nat :=
  let c1_i32_3125 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5084 : BitVec 32 := Scalar.subi c1_i32_3125 v9
  ![v5084.toNat]
def k0_off3404 (i : grid0.Coords) : Fin 3 → Nat :=
  let c1_i32_3125 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5084 : BitVec 32 := Scalar.subi c1_i32_3125 v9
  let arg1 : BitVec 32 := BitVec.ofNat 32 (i 1).val
  let c2_i32_3121 : BitVec 32 := 2#32
  let v5080 : BitVec 32 := Scalar.muli arg1 c2_i32_3121
  let c1_i32_3122 : BitVec 32 := 1#32
  let v5081 : BitVec 32 := Scalar.addi v5080 c1_i32_3122
  let c256_i32_3123 : BitVec 32 := 256#32
  let v5082 : BitVec 32 := Scalar.muli v5081 c256_i32_3123
  let c77_i32_3124 : BitVec 32 := 77#32
  let v5083 : BitVec 32 := Scalar.addi v5082 c77_i32_3124
  let c8_i32_3128 : BitVec 32 := 8#32
  let v5088 : BitVec 32 := Scalar.muli v5083 c8_i32_3128
  let v5089 : BitVec 32 := v5088
  let c0_i32_3129 : BitVec 32 := 0#32
  ![v5084.toNat, v5089.toNat, 0]
def k0_off3405 (v5086 : BitVec 32) : Fin 2 → Nat :=
  let v5087 : BitVec 32 := v5086
  let c0_i32_3130 : BitVec 32 := 0#32
  ![v5087.toNat, 0]

def k0_chk847 (i : grid0.Coords) (v5086 : BitVec 32) : Prop :=
  (∀ (k0_h3 : k0_cond3 i = 1#1), 8 ∣ (k0_mult1693 v5086).toNat) ∧
  (∀ (k0_h3 : k0_cond3 i = 1#1), ∀ a, (k0_off3405 v5086) a + S8x128.size a ≤ S131072x128.size a)
theorem k0_mult1693_dvd : ∀ (i : grid0.Coords) (v5086 : BitVec 32) (k0_hw847 : k0_chk847 i v5086), ∀ (k0_h3 : k0_cond3 i = 1#1), 8 ∣ (k0_mult1693 v5086).toNat := fun i v5086 k0_hw847 k0_h3 => k0_hw847.1 k0_h3
theorem k0_off3405_inb : ∀ (i : grid0.Coords) (v5086 : BitVec 32) (k0_hw847 : k0_chk847 i v5086), ∀ (k0_h3 : k0_cond3 i = 1#1), ∀ a, (k0_off3405 v5086) a + S8x128.size a ≤ S131072x128.size a := fun i v5086 k0_hw847 k0_h3 => k0_hw847.2 k0_h3

def k0_off3406 (i : grid0.Coords) : Fin 3 → Nat :=
  let c0_3136 : Index := 0#32
  let c0_3137 : Index := 0#32
  let arg1 : BitVec 32 := BitVec.ofNat 32 (i 1).val
  let c2_i32_3131 : BitVec 32 := 2#32
  let v5095 : BitVec 32 := Scalar.muli arg1 c2_i32_3131
  let c1_i32_3132 : BitVec 32 := 1#32
  let v5096 : BitVec 32 := Scalar.addi v5095 c1_i32_3132
  let c256_i32_3133 : BitVec 32 := 256#32
  let v5097 : BitVec 32 := Scalar.muli v5096 c256_i32_3133
  let c78_i32_3134 : BitVec 32 := 78#32
  let v5098 : BitVec 32 := Scalar.addi v5097 c78_i32_3134
  let v5100 : Index := Scalar.indexCast v5098
  ![0, 0, v5100.toNat]
def k0_mult1695 (v5101 : BitVec 32) : BitVec 32 :=
  v5101

def k0_mult1696 (i : grid0.Coords) : BitVec 32 :=
  let arg1 : BitVec 32 := BitVec.ofNat 32 (i 1).val
  let c2_i32_3131 : BitVec 32 := 2#32
  let v5095 : BitVec 32 := Scalar.muli arg1 c2_i32_3131
  let c1_i32_3132 : BitVec 32 := 1#32
  let v5096 : BitVec 32 := Scalar.addi v5095 c1_i32_3132
  let c256_i32_3133 : BitVec 32 := 256#32
  let v5097 : BitVec 32 := Scalar.muli v5096 c256_i32_3133
  let c78_i32_3134 : BitVec 32 := 78#32
  let v5098 : BitVec 32 := Scalar.addi v5097 c78_i32_3134
  let c8_i32_3138 : BitVec 32 := 8#32
  let v5103 : BitVec 32 := Scalar.muli v5098 c8_i32_3138
  v5103
def k0_off3407 (i : grid0.Coords) : Fin 1 → Nat :=
  let c1_i32_3135 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5099 : BitVec 32 := Scalar.subi c1_i32_3135 v9
  ![v5099.toNat]
def k0_off3408 (i : grid0.Coords) : Fin 3 → Nat :=
  let c1_i32_3135 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5099 : BitVec 32 := Scalar.subi c1_i32_3135 v9
  let arg1 : BitVec 32 := BitVec.ofNat 32 (i 1).val
  let c2_i32_3131 : BitVec 32 := 2#32
  let v5095 : BitVec 32 := Scalar.muli arg1 c2_i32_3131
  let c1_i32_3132 : BitVec 32 := 1#32
  let v5096 : BitVec 32 := Scalar.addi v5095 c1_i32_3132
  let c256_i32_3133 : BitVec 32 := 256#32
  let v5097 : BitVec 32 := Scalar.muli v5096 c256_i32_3133
  let c78_i32_3134 : BitVec 32 := 78#32
  let v5098 : BitVec 32 := Scalar.addi v5097 c78_i32_3134
  let c8_i32_3138 : BitVec 32 := 8#32
  let v5103 : BitVec 32 := Scalar.muli v5098 c8_i32_3138
  let v5104 : BitVec 32 := v5103
  let c0_i32_3139 : BitVec 32 := 0#32
  ![v5099.toNat, v5104.toNat, 0]
def k0_off3409 (v5101 : BitVec 32) : Fin 2 → Nat :=
  let v5102 : BitVec 32 := v5101
  let c0_i32_3140 : BitVec 32 := 0#32
  ![v5102.toNat, 0]

def k0_chk848 (i : grid0.Coords) (v5101 : BitVec 32) : Prop :=
  (∀ (k0_h3 : k0_cond3 i = 1#1), 8 ∣ (k0_mult1695 v5101).toNat) ∧
  (∀ (k0_h3 : k0_cond3 i = 1#1), ∀ a, (k0_off3409 v5101) a + S8x128.size a ≤ S131072x128.size a)
theorem k0_mult1695_dvd : ∀ (i : grid0.Coords) (v5101 : BitVec 32) (k0_hw848 : k0_chk848 i v5101), ∀ (k0_h3 : k0_cond3 i = 1#1), 8 ∣ (k0_mult1695 v5101).toNat := fun i v5101 k0_hw848 k0_h3 => k0_hw848.1 k0_h3
theorem k0_off3409_inb : ∀ (i : grid0.Coords) (v5101 : BitVec 32) (k0_hw848 : k0_chk848 i v5101), ∀ (k0_h3 : k0_cond3 i = 1#1), ∀ a, (k0_off3409 v5101) a + S8x128.size a ≤ S131072x128.size a := fun i v5101 k0_hw848 k0_h3 => k0_hw848.2 k0_h3

def k0_off3410 (i : grid0.Coords) : Fin 3 → Nat :=
  let c0_3146 : Index := 0#32
  let c0_3147 : Index := 0#32
  let arg1 : BitVec 32 := BitVec.ofNat 32 (i 1).val
  let c2_i32_3141 : BitVec 32 := 2#32
  let v5110 : BitVec 32 := Scalar.muli arg1 c2_i32_3141
  let c1_i32_3142 : BitVec 32 := 1#32
  let v5111 : BitVec 32 := Scalar.addi v5110 c1_i32_3142
  let c256_i32_3143 : BitVec 32 := 256#32
  let v5112 : BitVec 32 := Scalar.muli v5111 c256_i32_3143
  let c79_i32_3144 : BitVec 32 := 79#32
  let v5113 : BitVec 32 := Scalar.addi v5112 c79_i32_3144
  let v5115 : Index := Scalar.indexCast v5113
  ![0, 0, v5115.toNat]
def k0_mult1697 (v5116 : BitVec 32) : BitVec 32 :=
  v5116

def k0_mult1698 (i : grid0.Coords) : BitVec 32 :=
  let arg1 : BitVec 32 := BitVec.ofNat 32 (i 1).val
  let c2_i32_3141 : BitVec 32 := 2#32
  let v5110 : BitVec 32 := Scalar.muli arg1 c2_i32_3141
  let c1_i32_3142 : BitVec 32 := 1#32
  let v5111 : BitVec 32 := Scalar.addi v5110 c1_i32_3142
  let c256_i32_3143 : BitVec 32 := 256#32
  let v5112 : BitVec 32 := Scalar.muli v5111 c256_i32_3143
  let c79_i32_3144 : BitVec 32 := 79#32
  let v5113 : BitVec 32 := Scalar.addi v5112 c79_i32_3144
  let c8_i32_3148 : BitVec 32 := 8#32
  let v5118 : BitVec 32 := Scalar.muli v5113 c8_i32_3148
  v5118
def k0_off3411 (i : grid0.Coords) : Fin 1 → Nat :=
  let c1_i32_3145 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5114 : BitVec 32 := Scalar.subi c1_i32_3145 v9
  ![v5114.toNat]
def k0_off3412 (i : grid0.Coords) : Fin 3 → Nat :=
  let c1_i32_3145 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5114 : BitVec 32 := Scalar.subi c1_i32_3145 v9
  let arg1 : BitVec 32 := BitVec.ofNat 32 (i 1).val
  let c2_i32_3141 : BitVec 32 := 2#32
  let v5110 : BitVec 32 := Scalar.muli arg1 c2_i32_3141
  let c1_i32_3142 : BitVec 32 := 1#32
  let v5111 : BitVec 32 := Scalar.addi v5110 c1_i32_3142
  let c256_i32_3143 : BitVec 32 := 256#32
  let v5112 : BitVec 32 := Scalar.muli v5111 c256_i32_3143
  let c79_i32_3144 : BitVec 32 := 79#32
  let v5113 : BitVec 32 := Scalar.addi v5112 c79_i32_3144
  let c8_i32_3148 : BitVec 32 := 8#32
  let v5118 : BitVec 32 := Scalar.muli v5113 c8_i32_3148
  let v5119 : BitVec 32 := v5118
  let c0_i32_3149 : BitVec 32 := 0#32
  ![v5114.toNat, v5119.toNat, 0]
def k0_off3413 (v5116 : BitVec 32) : Fin 2 → Nat :=
  let v5117 : BitVec 32 := v5116
  let c0_i32_3150 : BitVec 32 := 0#32
  ![v5117.toNat, 0]

def k0_chk849 (i : grid0.Coords) (v5116 : BitVec 32) : Prop :=
  (∀ (k0_h3 : k0_cond3 i = 1#1), 8 ∣ (k0_mult1697 v5116).toNat) ∧
  (∀ (k0_h3 : k0_cond3 i = 1#1), ∀ a, (k0_off3413 v5116) a + S8x128.size a ≤ S131072x128.size a)
theorem k0_mult1697_dvd : ∀ (i : grid0.Coords) (v5116 : BitVec 32) (k0_hw849 : k0_chk849 i v5116), ∀ (k0_h3 : k0_cond3 i = 1#1), 8 ∣ (k0_mult1697 v5116).toNat := fun i v5116 k0_hw849 k0_h3 => k0_hw849.1 k0_h3
theorem k0_off3413_inb : ∀ (i : grid0.Coords) (v5116 : BitVec 32) (k0_hw849 : k0_chk849 i v5116), ∀ (k0_h3 : k0_cond3 i = 1#1), ∀ a, (k0_off3413 v5116) a + S8x128.size a ≤ S131072x128.size a := fun i v5116 k0_hw849 k0_h3 => k0_hw849.2 k0_h3

def k0_off3414 (i : grid0.Coords) : Fin 3 → Nat :=
  let c0_3156 : Index := 0#32
  let c0_3157 : Index := 0#32
  let arg1 : BitVec 32 := BitVec.ofNat 32 (i 1).val
  let c2_i32_3151 : BitVec 32 := 2#32
  let v5125 : BitVec 32 := Scalar.muli arg1 c2_i32_3151
  let c1_i32_3152 : BitVec 32 := 1#32
  let v5126 : BitVec 32 := Scalar.addi v5125 c1_i32_3152
  let c256_i32_3153 : BitVec 32 := 256#32
  let v5127 : BitVec 32 := Scalar.muli v5126 c256_i32_3153
  let c80_i32_3154 : BitVec 32 := 80#32
  let v5128 : BitVec 32 := Scalar.addi v5127 c80_i32_3154
  let v5130 : Index := Scalar.indexCast v5128
  ![0, 0, v5130.toNat]
def k0_mult1699 (v5131 : BitVec 32) : BitVec 32 :=
  v5131

def k0_mult1700 (i : grid0.Coords) : BitVec 32 :=
  let arg1 : BitVec 32 := BitVec.ofNat 32 (i 1).val
  let c2_i32_3151 : BitVec 32 := 2#32
  let v5125 : BitVec 32 := Scalar.muli arg1 c2_i32_3151
  let c1_i32_3152 : BitVec 32 := 1#32
  let v5126 : BitVec 32 := Scalar.addi v5125 c1_i32_3152
  let c256_i32_3153 : BitVec 32 := 256#32
  let v5127 : BitVec 32 := Scalar.muli v5126 c256_i32_3153
  let c80_i32_3154 : BitVec 32 := 80#32
  let v5128 : BitVec 32 := Scalar.addi v5127 c80_i32_3154
  let c8_i32_3158 : BitVec 32 := 8#32
  let v5133 : BitVec 32 := Scalar.muli v5128 c8_i32_3158
  v5133
def k0_off3415 (i : grid0.Coords) : Fin 1 → Nat :=
  let c1_i32_3155 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5129 : BitVec 32 := Scalar.subi c1_i32_3155 v9
  ![v5129.toNat]
def k0_off3416 (i : grid0.Coords) : Fin 3 → Nat :=
  let c1_i32_3155 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5129 : BitVec 32 := Scalar.subi c1_i32_3155 v9
  let arg1 : BitVec 32 := BitVec.ofNat 32 (i 1).val
  let c2_i32_3151 : BitVec 32 := 2#32
  let v5125 : BitVec 32 := Scalar.muli arg1 c2_i32_3151
  let c1_i32_3152 : BitVec 32 := 1#32
  let v5126 : BitVec 32 := Scalar.addi v5125 c1_i32_3152
  let c256_i32_3153 : BitVec 32 := 256#32
  let v5127 : BitVec 32 := Scalar.muli v5126 c256_i32_3153
  let c80_i32_3154 : BitVec 32 := 80#32
  let v5128 : BitVec 32 := Scalar.addi v5127 c80_i32_3154
  let c8_i32_3158 : BitVec 32 := 8#32
  let v5133 : BitVec 32 := Scalar.muli v5128 c8_i32_3158
  let v5134 : BitVec 32 := v5133
  let c0_i32_3159 : BitVec 32 := 0#32
  ![v5129.toNat, v5134.toNat, 0]
def k0_off3417 (v5131 : BitVec 32) : Fin 2 → Nat :=
  let v5132 : BitVec 32 := v5131
  let c0_i32_3160 : BitVec 32 := 0#32
  ![v5132.toNat, 0]

def k0_chk850 (i : grid0.Coords) (v5131 : BitVec 32) : Prop :=
  (∀ (k0_h3 : k0_cond3 i = 1#1), 8 ∣ (k0_mult1699 v5131).toNat) ∧
  (∀ (k0_h3 : k0_cond3 i = 1#1), ∀ a, (k0_off3417 v5131) a + S8x128.size a ≤ S131072x128.size a)
theorem k0_mult1699_dvd : ∀ (i : grid0.Coords) (v5131 : BitVec 32) (k0_hw850 : k0_chk850 i v5131), ∀ (k0_h3 : k0_cond3 i = 1#1), 8 ∣ (k0_mult1699 v5131).toNat := fun i v5131 k0_hw850 k0_h3 => k0_hw850.1 k0_h3
theorem k0_off3417_inb : ∀ (i : grid0.Coords) (v5131 : BitVec 32) (k0_hw850 : k0_chk850 i v5131), ∀ (k0_h3 : k0_cond3 i = 1#1), ∀ a, (k0_off3417 v5131) a + S8x128.size a ≤ S131072x128.size a := fun i v5131 k0_hw850 k0_h3 => k0_hw850.2 k0_h3

def k0_off3418 (i : grid0.Coords) : Fin 3 → Nat :=
  let c0_3166 : Index := 0#32
  let c0_3167 : Index := 0#32
  let arg1 : BitVec 32 := BitVec.ofNat 32 (i 1).val
  let c2_i32_3161 : BitVec 32 := 2#32
  let v5140 : BitVec 32 := Scalar.muli arg1 c2_i32_3161
  let c1_i32_3162 : BitVec 32 := 1#32
  let v5141 : BitVec 32 := Scalar.addi v5140 c1_i32_3162
  let c256_i32_3163 : BitVec 32 := 256#32
  let v5142 : BitVec 32 := Scalar.muli v5141 c256_i32_3163
  let c81_i32_3164 : BitVec 32 := 81#32
  let v5143 : BitVec 32 := Scalar.addi v5142 c81_i32_3164
  let v5145 : Index := Scalar.indexCast v5143
  ![0, 0, v5145.toNat]
def k0_mult1701 (v5146 : BitVec 32) : BitVec 32 :=
  v5146

def k0_mult1702 (i : grid0.Coords) : BitVec 32 :=
  let arg1 : BitVec 32 := BitVec.ofNat 32 (i 1).val
  let c2_i32_3161 : BitVec 32 := 2#32
  let v5140 : BitVec 32 := Scalar.muli arg1 c2_i32_3161
  let c1_i32_3162 : BitVec 32 := 1#32
  let v5141 : BitVec 32 := Scalar.addi v5140 c1_i32_3162
  let c256_i32_3163 : BitVec 32 := 256#32
  let v5142 : BitVec 32 := Scalar.muli v5141 c256_i32_3163
  let c81_i32_3164 : BitVec 32 := 81#32
  let v5143 : BitVec 32 := Scalar.addi v5142 c81_i32_3164
  let c8_i32_3168 : BitVec 32 := 8#32
  let v5148 : BitVec 32 := Scalar.muli v5143 c8_i32_3168
  v5148
def k0_off3419 (i : grid0.Coords) : Fin 1 → Nat :=
  let c1_i32_3165 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5144 : BitVec 32 := Scalar.subi c1_i32_3165 v9
  ![v5144.toNat]
def k0_off3420 (i : grid0.Coords) : Fin 3 → Nat :=
  let c1_i32_3165 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5144 : BitVec 32 := Scalar.subi c1_i32_3165 v9
  let arg1 : BitVec 32 := BitVec.ofNat 32 (i 1).val
  let c2_i32_3161 : BitVec 32 := 2#32
  let v5140 : BitVec 32 := Scalar.muli arg1 c2_i32_3161
  let c1_i32_3162 : BitVec 32 := 1#32
  let v5141 : BitVec 32 := Scalar.addi v5140 c1_i32_3162
  let c256_i32_3163 : BitVec 32 := 256#32
  let v5142 : BitVec 32 := Scalar.muli v5141 c256_i32_3163
  let c81_i32_3164 : BitVec 32 := 81#32
  let v5143 : BitVec 32 := Scalar.addi v5142 c81_i32_3164
  let c8_i32_3168 : BitVec 32 := 8#32
  let v5148 : BitVec 32 := Scalar.muli v5143 c8_i32_3168
  let v5149 : BitVec 32 := v5148
  let c0_i32_3169 : BitVec 32 := 0#32
  ![v5144.toNat, v5149.toNat, 0]
def k0_off3421 (v5146 : BitVec 32) : Fin 2 → Nat :=
  let v5147 : BitVec 32 := v5146
  let c0_i32_3170 : BitVec 32 := 0#32
  ![v5147.toNat, 0]

def k0_chk851 (i : grid0.Coords) (v5146 : BitVec 32) : Prop :=
  (∀ (k0_h3 : k0_cond3 i = 1#1), 8 ∣ (k0_mult1701 v5146).toNat) ∧
  (∀ (k0_h3 : k0_cond3 i = 1#1), ∀ a, (k0_off3421 v5146) a + S8x128.size a ≤ S131072x128.size a)
theorem k0_mult1701_dvd : ∀ (i : grid0.Coords) (v5146 : BitVec 32) (k0_hw851 : k0_chk851 i v5146), ∀ (k0_h3 : k0_cond3 i = 1#1), 8 ∣ (k0_mult1701 v5146).toNat := fun i v5146 k0_hw851 k0_h3 => k0_hw851.1 k0_h3
theorem k0_off3421_inb : ∀ (i : grid0.Coords) (v5146 : BitVec 32) (k0_hw851 : k0_chk851 i v5146), ∀ (k0_h3 : k0_cond3 i = 1#1), ∀ a, (k0_off3421 v5146) a + S8x128.size a ≤ S131072x128.size a := fun i v5146 k0_hw851 k0_h3 => k0_hw851.2 k0_h3

def k0_off3422 (i : grid0.Coords) : Fin 3 → Nat :=
  let c0_3176 : Index := 0#32
  let c0_3177 : Index := 0#32
  let arg1 : BitVec 32 := BitVec.ofNat 32 (i 1).val
  let c2_i32_3171 : BitVec 32 := 2#32
  let v5155 : BitVec 32 := Scalar.muli arg1 c2_i32_3171
  let c1_i32_3172 : BitVec 32 := 1#32
  let v5156 : BitVec 32 := Scalar.addi v5155 c1_i32_3172
  let c256_i32_3173 : BitVec 32 := 256#32
  let v5157 : BitVec 32 := Scalar.muli v5156 c256_i32_3173
  let c82_i32_3174 : BitVec 32 := 82#32
  let v5158 : BitVec 32 := Scalar.addi v5157 c82_i32_3174
  let v5160 : Index := Scalar.indexCast v5158
  ![0, 0, v5160.toNat]
def k0_mult1703 (v5161 : BitVec 32) : BitVec 32 :=
  v5161

def k0_mult1704 (i : grid0.Coords) : BitVec 32 :=
  let arg1 : BitVec 32 := BitVec.ofNat 32 (i 1).val
  let c2_i32_3171 : BitVec 32 := 2#32
  let v5155 : BitVec 32 := Scalar.muli arg1 c2_i32_3171
  let c1_i32_3172 : BitVec 32 := 1#32
  let v5156 : BitVec 32 := Scalar.addi v5155 c1_i32_3172
  let c256_i32_3173 : BitVec 32 := 256#32
  let v5157 : BitVec 32 := Scalar.muli v5156 c256_i32_3173
  let c82_i32_3174 : BitVec 32 := 82#32
  let v5158 : BitVec 32 := Scalar.addi v5157 c82_i32_3174
  let c8_i32_3178 : BitVec 32 := 8#32
  let v5163 : BitVec 32 := Scalar.muli v5158 c8_i32_3178
  v5163
def k0_off3423 (i : grid0.Coords) : Fin 1 → Nat :=
  let c1_i32_3175 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5159 : BitVec 32 := Scalar.subi c1_i32_3175 v9
  ![v5159.toNat]
def k0_off3424 (i : grid0.Coords) : Fin 3 → Nat :=
  let c1_i32_3175 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5159 : BitVec 32 := Scalar.subi c1_i32_3175 v9
  let arg1 : BitVec 32 := BitVec.ofNat 32 (i 1).val
  let c2_i32_3171 : BitVec 32 := 2#32
  let v5155 : BitVec 32 := Scalar.muli arg1 c2_i32_3171
  let c1_i32_3172 : BitVec 32 := 1#32
  let v5156 : BitVec 32 := Scalar.addi v5155 c1_i32_3172
  let c256_i32_3173 : BitVec 32 := 256#32
  let v5157 : BitVec 32 := Scalar.muli v5156 c256_i32_3173
  let c82_i32_3174 : BitVec 32 := 82#32
  let v5158 : BitVec 32 := Scalar.addi v5157 c82_i32_3174
  let c8_i32_3178 : BitVec 32 := 8#32
  let v5163 : BitVec 32 := Scalar.muli v5158 c8_i32_3178
  let v5164 : BitVec 32 := v5163
  let c0_i32_3179 : BitVec 32 := 0#32
  ![v5159.toNat, v5164.toNat, 0]
def k0_off3425 (v5161 : BitVec 32) : Fin 2 → Nat :=
  let v5162 : BitVec 32 := v5161
  let c0_i32_3180 : BitVec 32 := 0#32
  ![v5162.toNat, 0]

def k0_chk852 (i : grid0.Coords) (v5161 : BitVec 32) : Prop :=
  (∀ (k0_h3 : k0_cond3 i = 1#1), 8 ∣ (k0_mult1703 v5161).toNat) ∧
  (∀ (k0_h3 : k0_cond3 i = 1#1), ∀ a, (k0_off3425 v5161) a + S8x128.size a ≤ S131072x128.size a)
theorem k0_mult1703_dvd : ∀ (i : grid0.Coords) (v5161 : BitVec 32) (k0_hw852 : k0_chk852 i v5161), ∀ (k0_h3 : k0_cond3 i = 1#1), 8 ∣ (k0_mult1703 v5161).toNat := fun i v5161 k0_hw852 k0_h3 => k0_hw852.1 k0_h3
theorem k0_off3425_inb : ∀ (i : grid0.Coords) (v5161 : BitVec 32) (k0_hw852 : k0_chk852 i v5161), ∀ (k0_h3 : k0_cond3 i = 1#1), ∀ a, (k0_off3425 v5161) a + S8x128.size a ≤ S131072x128.size a := fun i v5161 k0_hw852 k0_h3 => k0_hw852.2 k0_h3

def k0_off3426 (i : grid0.Coords) : Fin 3 → Nat :=
  let c0_3186 : Index := 0#32
  let c0_3187 : Index := 0#32
  let arg1 : BitVec 32 := BitVec.ofNat 32 (i 1).val
  let c2_i32_3181 : BitVec 32 := 2#32
  let v5170 : BitVec 32 := Scalar.muli arg1 c2_i32_3181
  let c1_i32_3182 : BitVec 32 := 1#32
  let v5171 : BitVec 32 := Scalar.addi v5170 c1_i32_3182
  let c256_i32_3183 : BitVec 32 := 256#32
  let v5172 : BitVec 32 := Scalar.muli v5171 c256_i32_3183
  let c83_i32_3184 : BitVec 32 := 83#32
  let v5173 : BitVec 32 := Scalar.addi v5172 c83_i32_3184
  let v5175 : Index := Scalar.indexCast v5173
  ![0, 0, v5175.toNat]
def k0_mult1705 (v5176 : BitVec 32) : BitVec 32 :=
  v5176

def k0_mult1706 (i : grid0.Coords) : BitVec 32 :=
  let arg1 : BitVec 32 := BitVec.ofNat 32 (i 1).val
  let c2_i32_3181 : BitVec 32 := 2#32
  let v5170 : BitVec 32 := Scalar.muli arg1 c2_i32_3181
  let c1_i32_3182 : BitVec 32 := 1#32
  let v5171 : BitVec 32 := Scalar.addi v5170 c1_i32_3182
  let c256_i32_3183 : BitVec 32 := 256#32
  let v5172 : BitVec 32 := Scalar.muli v5171 c256_i32_3183
  let c83_i32_3184 : BitVec 32 := 83#32
  let v5173 : BitVec 32 := Scalar.addi v5172 c83_i32_3184
  let c8_i32_3188 : BitVec 32 := 8#32
  let v5178 : BitVec 32 := Scalar.muli v5173 c8_i32_3188
  v5178
def k0_off3427 (i : grid0.Coords) : Fin 1 → Nat :=
  let c1_i32_3185 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5174 : BitVec 32 := Scalar.subi c1_i32_3185 v9
  ![v5174.toNat]
def k0_off3428 (i : grid0.Coords) : Fin 3 → Nat :=
  let c1_i32_3185 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5174 : BitVec 32 := Scalar.subi c1_i32_3185 v9
  let arg1 : BitVec 32 := BitVec.ofNat 32 (i 1).val
  let c2_i32_3181 : BitVec 32 := 2#32
  let v5170 : BitVec 32 := Scalar.muli arg1 c2_i32_3181
  let c1_i32_3182 : BitVec 32 := 1#32
  let v5171 : BitVec 32 := Scalar.addi v5170 c1_i32_3182
  let c256_i32_3183 : BitVec 32 := 256#32
  let v5172 : BitVec 32 := Scalar.muli v5171 c256_i32_3183
  let c83_i32_3184 : BitVec 32 := 83#32
  let v5173 : BitVec 32 := Scalar.addi v5172 c83_i32_3184
  let c8_i32_3188 : BitVec 32 := 8#32
  let v5178 : BitVec 32 := Scalar.muli v5173 c8_i32_3188
  let v5179 : BitVec 32 := v5178
  let c0_i32_3189 : BitVec 32 := 0#32
  ![v5174.toNat, v5179.toNat, 0]
def k0_off3429 (v5176 : BitVec 32) : Fin 2 → Nat :=
  let v5177 : BitVec 32 := v5176
  let c0_i32_3190 : BitVec 32 := 0#32
  ![v5177.toNat, 0]

def k0_chk853 (i : grid0.Coords) (v5176 : BitVec 32) : Prop :=
  (∀ (k0_h3 : k0_cond3 i = 1#1), 8 ∣ (k0_mult1705 v5176).toNat) ∧
  (∀ (k0_h3 : k0_cond3 i = 1#1), ∀ a, (k0_off3429 v5176) a + S8x128.size a ≤ S131072x128.size a)
theorem k0_mult1705_dvd : ∀ (i : grid0.Coords) (v5176 : BitVec 32) (k0_hw853 : k0_chk853 i v5176), ∀ (k0_h3 : k0_cond3 i = 1#1), 8 ∣ (k0_mult1705 v5176).toNat := fun i v5176 k0_hw853 k0_h3 => k0_hw853.1 k0_h3
theorem k0_off3429_inb : ∀ (i : grid0.Coords) (v5176 : BitVec 32) (k0_hw853 : k0_chk853 i v5176), ∀ (k0_h3 : k0_cond3 i = 1#1), ∀ a, (k0_off3429 v5176) a + S8x128.size a ≤ S131072x128.size a := fun i v5176 k0_hw853 k0_h3 => k0_hw853.2 k0_h3

def k0_off3430 (i : grid0.Coords) : Fin 3 → Nat :=
  let c0_3196 : Index := 0#32
  let c0_3197 : Index := 0#32
  let arg1 : BitVec 32 := BitVec.ofNat 32 (i 1).val
  let c2_i32_3191 : BitVec 32 := 2#32
  let v5185 : BitVec 32 := Scalar.muli arg1 c2_i32_3191
  let c1_i32_3192 : BitVec 32 := 1#32
  let v5186 : BitVec 32 := Scalar.addi v5185 c1_i32_3192
  let c256_i32_3193 : BitVec 32 := 256#32
  let v5187 : BitVec 32 := Scalar.muli v5186 c256_i32_3193
  let c84_i32_3194 : BitVec 32 := 84#32
  let v5188 : BitVec 32 := Scalar.addi v5187 c84_i32_3194
  let v5190 : Index := Scalar.indexCast v5188
  ![0, 0, v5190.toNat]
def k0_mult1707 (v5191 : BitVec 32) : BitVec 32 :=
  v5191

def k0_mult1708 (i : grid0.Coords) : BitVec 32 :=
  let arg1 : BitVec 32 := BitVec.ofNat 32 (i 1).val
  let c2_i32_3191 : BitVec 32 := 2#32
  let v5185 : BitVec 32 := Scalar.muli arg1 c2_i32_3191
  let c1_i32_3192 : BitVec 32 := 1#32
  let v5186 : BitVec 32 := Scalar.addi v5185 c1_i32_3192
  let c256_i32_3193 : BitVec 32 := 256#32
  let v5187 : BitVec 32 := Scalar.muli v5186 c256_i32_3193
  let c84_i32_3194 : BitVec 32 := 84#32
  let v5188 : BitVec 32 := Scalar.addi v5187 c84_i32_3194
  let c8_i32_3198 : BitVec 32 := 8#32
  let v5193 : BitVec 32 := Scalar.muli v5188 c8_i32_3198
  v5193
def k0_off3431 (i : grid0.Coords) : Fin 1 → Nat :=
  let c1_i32_3195 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5189 : BitVec 32 := Scalar.subi c1_i32_3195 v9
  ![v5189.toNat]
def k0_off3432 (i : grid0.Coords) : Fin 3 → Nat :=
  let c1_i32_3195 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5189 : BitVec 32 := Scalar.subi c1_i32_3195 v9
  let arg1 : BitVec 32 := BitVec.ofNat 32 (i 1).val
  let c2_i32_3191 : BitVec 32 := 2#32
  let v5185 : BitVec 32 := Scalar.muli arg1 c2_i32_3191
  let c1_i32_3192 : BitVec 32 := 1#32
  let v5186 : BitVec 32 := Scalar.addi v5185 c1_i32_3192
  let c256_i32_3193 : BitVec 32 := 256#32
  let v5187 : BitVec 32 := Scalar.muli v5186 c256_i32_3193
  let c84_i32_3194 : BitVec 32 := 84#32
  let v5188 : BitVec 32 := Scalar.addi v5187 c84_i32_3194
  let c8_i32_3198 : BitVec 32 := 8#32
  let v5193 : BitVec 32 := Scalar.muli v5188 c8_i32_3198
  let v5194 : BitVec 32 := v5193
  let c0_i32_3199 : BitVec 32 := 0#32
  ![v5189.toNat, v5194.toNat, 0]
def k0_off3433 (v5191 : BitVec 32) : Fin 2 → Nat :=
  let v5192 : BitVec 32 := v5191
  let c0_i32_3200 : BitVec 32 := 0#32
  ![v5192.toNat, 0]

def k0_chk854 (i : grid0.Coords) (v5191 : BitVec 32) : Prop :=
  (∀ (k0_h3 : k0_cond3 i = 1#1), 8 ∣ (k0_mult1707 v5191).toNat) ∧
  (∀ (k0_h3 : k0_cond3 i = 1#1), ∀ a, (k0_off3433 v5191) a + S8x128.size a ≤ S131072x128.size a)
theorem k0_mult1707_dvd : ∀ (i : grid0.Coords) (v5191 : BitVec 32) (k0_hw854 : k0_chk854 i v5191), ∀ (k0_h3 : k0_cond3 i = 1#1), 8 ∣ (k0_mult1707 v5191).toNat := fun i v5191 k0_hw854 k0_h3 => k0_hw854.1 k0_h3
theorem k0_off3433_inb : ∀ (i : grid0.Coords) (v5191 : BitVec 32) (k0_hw854 : k0_chk854 i v5191), ∀ (k0_h3 : k0_cond3 i = 1#1), ∀ a, (k0_off3433 v5191) a + S8x128.size a ≤ S131072x128.size a := fun i v5191 k0_hw854 k0_h3 => k0_hw854.2 k0_h3

def k0_off3434 (i : grid0.Coords) : Fin 3 → Nat :=
  let c0_3206 : Index := 0#32
  let c0_3207 : Index := 0#32
  let arg1 : BitVec 32 := BitVec.ofNat 32 (i 1).val
  let c2_i32_3201 : BitVec 32 := 2#32
  let v5200 : BitVec 32 := Scalar.muli arg1 c2_i32_3201
  let c1_i32_3202 : BitVec 32 := 1#32
  let v5201 : BitVec 32 := Scalar.addi v5200 c1_i32_3202
  let c256_i32_3203 : BitVec 32 := 256#32
  let v5202 : BitVec 32 := Scalar.muli v5201 c256_i32_3203
  let c85_i32_3204 : BitVec 32 := 85#32
  let v5203 : BitVec 32 := Scalar.addi v5202 c85_i32_3204
  let v5205 : Index := Scalar.indexCast v5203
  ![0, 0, v5205.toNat]
def k0_mult1709 (v5206 : BitVec 32) : BitVec 32 :=
  v5206

def k0_mult1710 (i : grid0.Coords) : BitVec 32 :=
  let arg1 : BitVec 32 := BitVec.ofNat 32 (i 1).val
  let c2_i32_3201 : BitVec 32 := 2#32
  let v5200 : BitVec 32 := Scalar.muli arg1 c2_i32_3201
  let c1_i32_3202 : BitVec 32 := 1#32
  let v5201 : BitVec 32 := Scalar.addi v5200 c1_i32_3202
  let c256_i32_3203 : BitVec 32 := 256#32
  let v5202 : BitVec 32 := Scalar.muli v5201 c256_i32_3203
  let c85_i32_3204 : BitVec 32 := 85#32
  let v5203 : BitVec 32 := Scalar.addi v5202 c85_i32_3204
  let c8_i32_3208 : BitVec 32 := 8#32
  let v5208 : BitVec 32 := Scalar.muli v5203 c8_i32_3208
  v5208
def k0_off3435 (i : grid0.Coords) : Fin 1 → Nat :=
  let c1_i32_3205 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5204 : BitVec 32 := Scalar.subi c1_i32_3205 v9
  ![v5204.toNat]
def k0_off3436 (i : grid0.Coords) : Fin 3 → Nat :=
  let c1_i32_3205 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5204 : BitVec 32 := Scalar.subi c1_i32_3205 v9
  let arg1 : BitVec 32 := BitVec.ofNat 32 (i 1).val
  let c2_i32_3201 : BitVec 32 := 2#32
  let v5200 : BitVec 32 := Scalar.muli arg1 c2_i32_3201
  let c1_i32_3202 : BitVec 32 := 1#32
  let v5201 : BitVec 32 := Scalar.addi v5200 c1_i32_3202
  let c256_i32_3203 : BitVec 32 := 256#32
  let v5202 : BitVec 32 := Scalar.muli v5201 c256_i32_3203
  let c85_i32_3204 : BitVec 32 := 85#32
  let v5203 : BitVec 32 := Scalar.addi v5202 c85_i32_3204
  let c8_i32_3208 : BitVec 32 := 8#32
  let v5208 : BitVec 32 := Scalar.muli v5203 c8_i32_3208
  let v5209 : BitVec 32 := v5208
  let c0_i32_3209 : BitVec 32 := 0#32
  ![v5204.toNat, v5209.toNat, 0]
def k0_off3437 (v5206 : BitVec 32) : Fin 2 → Nat :=
  let v5207 : BitVec 32 := v5206
  let c0_i32_3210 : BitVec 32 := 0#32
  ![v5207.toNat, 0]

def k0_chk855 (i : grid0.Coords) (v5206 : BitVec 32) : Prop :=
  (∀ (k0_h3 : k0_cond3 i = 1#1), 8 ∣ (k0_mult1709 v5206).toNat) ∧
  (∀ (k0_h3 : k0_cond3 i = 1#1), ∀ a, (k0_off3437 v5206) a + S8x128.size a ≤ S131072x128.size a)
theorem k0_mult1709_dvd : ∀ (i : grid0.Coords) (v5206 : BitVec 32) (k0_hw855 : k0_chk855 i v5206), ∀ (k0_h3 : k0_cond3 i = 1#1), 8 ∣ (k0_mult1709 v5206).toNat := fun i v5206 k0_hw855 k0_h3 => k0_hw855.1 k0_h3
theorem k0_off3437_inb : ∀ (i : grid0.Coords) (v5206 : BitVec 32) (k0_hw855 : k0_chk855 i v5206), ∀ (k0_h3 : k0_cond3 i = 1#1), ∀ a, (k0_off3437 v5206) a + S8x128.size a ≤ S131072x128.size a := fun i v5206 k0_hw855 k0_h3 => k0_hw855.2 k0_h3

def k0_off3438 (i : grid0.Coords) : Fin 3 → Nat :=
  let c0_3216 : Index := 0#32
  let c0_3217 : Index := 0#32
  let arg1 : BitVec 32 := BitVec.ofNat 32 (i 1).val
  let c2_i32_3211 : BitVec 32 := 2#32
  let v5215 : BitVec 32 := Scalar.muli arg1 c2_i32_3211
  let c1_i32_3212 : BitVec 32 := 1#32
  let v5216 : BitVec 32 := Scalar.addi v5215 c1_i32_3212
  let c256_i32_3213 : BitVec 32 := 256#32
  let v5217 : BitVec 32 := Scalar.muli v5216 c256_i32_3213
  let c86_i32_3214 : BitVec 32 := 86#32
  let v5218 : BitVec 32 := Scalar.addi v5217 c86_i32_3214
  let v5220 : Index := Scalar.indexCast v5218
  ![0, 0, v5220.toNat]
def k0_mult1711 (v5221 : BitVec 32) : BitVec 32 :=
  v5221

def k0_mult1712 (i : grid0.Coords) : BitVec 32 :=
  let arg1 : BitVec 32 := BitVec.ofNat 32 (i 1).val
  let c2_i32_3211 : BitVec 32 := 2#32
  let v5215 : BitVec 32 := Scalar.muli arg1 c2_i32_3211
  let c1_i32_3212 : BitVec 32 := 1#32
  let v5216 : BitVec 32 := Scalar.addi v5215 c1_i32_3212
  let c256_i32_3213 : BitVec 32 := 256#32
  let v5217 : BitVec 32 := Scalar.muli v5216 c256_i32_3213
  let c86_i32_3214 : BitVec 32 := 86#32
  let v5218 : BitVec 32 := Scalar.addi v5217 c86_i32_3214
  let c8_i32_3218 : BitVec 32 := 8#32
  let v5223 : BitVec 32 := Scalar.muli v5218 c8_i32_3218
  v5223
def k0_off3439 (i : grid0.Coords) : Fin 1 → Nat :=
  let c1_i32_3215 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5219 : BitVec 32 := Scalar.subi c1_i32_3215 v9
  ![v5219.toNat]
def k0_off3440 (i : grid0.Coords) : Fin 3 → Nat :=
  let c1_i32_3215 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5219 : BitVec 32 := Scalar.subi c1_i32_3215 v9
  let arg1 : BitVec 32 := BitVec.ofNat 32 (i 1).val
  let c2_i32_3211 : BitVec 32 := 2#32
  let v5215 : BitVec 32 := Scalar.muli arg1 c2_i32_3211
  let c1_i32_3212 : BitVec 32 := 1#32
  let v5216 : BitVec 32 := Scalar.addi v5215 c1_i32_3212
  let c256_i32_3213 : BitVec 32 := 256#32
  let v5217 : BitVec 32 := Scalar.muli v5216 c256_i32_3213
  let c86_i32_3214 : BitVec 32 := 86#32
  let v5218 : BitVec 32 := Scalar.addi v5217 c86_i32_3214
  let c8_i32_3218 : BitVec 32 := 8#32
  let v5223 : BitVec 32 := Scalar.muli v5218 c8_i32_3218
  let v5224 : BitVec 32 := v5223
  let c0_i32_3219 : BitVec 32 := 0#32
  ![v5219.toNat, v5224.toNat, 0]
def k0_off3441 (v5221 : BitVec 32) : Fin 2 → Nat :=
  let v5222 : BitVec 32 := v5221
  let c0_i32_3220 : BitVec 32 := 0#32
  ![v5222.toNat, 0]

def k0_chk856 (i : grid0.Coords) (v5221 : BitVec 32) : Prop :=
  (∀ (k0_h3 : k0_cond3 i = 1#1), 8 ∣ (k0_mult1711 v5221).toNat) ∧
  (∀ (k0_h3 : k0_cond3 i = 1#1), ∀ a, (k0_off3441 v5221) a + S8x128.size a ≤ S131072x128.size a)
theorem k0_mult1711_dvd : ∀ (i : grid0.Coords) (v5221 : BitVec 32) (k0_hw856 : k0_chk856 i v5221), ∀ (k0_h3 : k0_cond3 i = 1#1), 8 ∣ (k0_mult1711 v5221).toNat := fun i v5221 k0_hw856 k0_h3 => k0_hw856.1 k0_h3
theorem k0_off3441_inb : ∀ (i : grid0.Coords) (v5221 : BitVec 32) (k0_hw856 : k0_chk856 i v5221), ∀ (k0_h3 : k0_cond3 i = 1#1), ∀ a, (k0_off3441 v5221) a + S8x128.size a ≤ S131072x128.size a := fun i v5221 k0_hw856 k0_h3 => k0_hw856.2 k0_h3

def k0_off3442 (i : grid0.Coords) : Fin 3 → Nat :=
  let c0_3226 : Index := 0#32
  let c0_3227 : Index := 0#32
  let arg1 : BitVec 32 := BitVec.ofNat 32 (i 1).val
  let c2_i32_3221 : BitVec 32 := 2#32
  let v5230 : BitVec 32 := Scalar.muli arg1 c2_i32_3221
  let c1_i32_3222 : BitVec 32 := 1#32
  let v5231 : BitVec 32 := Scalar.addi v5230 c1_i32_3222
  let c256_i32_3223 : BitVec 32 := 256#32
  let v5232 : BitVec 32 := Scalar.muli v5231 c256_i32_3223
  let c87_i32_3224 : BitVec 32 := 87#32
  let v5233 : BitVec 32 := Scalar.addi v5232 c87_i32_3224
  let v5235 : Index := Scalar.indexCast v5233
  ![0, 0, v5235.toNat]
def k0_mult1713 (v5236 : BitVec 32) : BitVec 32 :=
  v5236

def k0_mult1714 (i : grid0.Coords) : BitVec 32 :=
  let arg1 : BitVec 32 := BitVec.ofNat 32 (i 1).val
  let c2_i32_3221 : BitVec 32 := 2#32
  let v5230 : BitVec 32 := Scalar.muli arg1 c2_i32_3221
  let c1_i32_3222 : BitVec 32 := 1#32
  let v5231 : BitVec 32 := Scalar.addi v5230 c1_i32_3222
  let c256_i32_3223 : BitVec 32 := 256#32
  let v5232 : BitVec 32 := Scalar.muli v5231 c256_i32_3223
  let c87_i32_3224 : BitVec 32 := 87#32
  let v5233 : BitVec 32 := Scalar.addi v5232 c87_i32_3224
  let c8_i32_3228 : BitVec 32 := 8#32
  let v5238 : BitVec 32 := Scalar.muli v5233 c8_i32_3228
  v5238
def k0_off3443 (i : grid0.Coords) : Fin 1 → Nat :=
  let c1_i32_3225 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5234 : BitVec 32 := Scalar.subi c1_i32_3225 v9
  ![v5234.toNat]
def k0_off3444 (i : grid0.Coords) : Fin 3 → Nat :=
  let c1_i32_3225 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5234 : BitVec 32 := Scalar.subi c1_i32_3225 v9
  let arg1 : BitVec 32 := BitVec.ofNat 32 (i 1).val
  let c2_i32_3221 : BitVec 32 := 2#32
  let v5230 : BitVec 32 := Scalar.muli arg1 c2_i32_3221
  let c1_i32_3222 : BitVec 32 := 1#32
  let v5231 : BitVec 32 := Scalar.addi v5230 c1_i32_3222
  let c256_i32_3223 : BitVec 32 := 256#32
  let v5232 : BitVec 32 := Scalar.muli v5231 c256_i32_3223
  let c87_i32_3224 : BitVec 32 := 87#32
  let v5233 : BitVec 32 := Scalar.addi v5232 c87_i32_3224
  let c8_i32_3228 : BitVec 32 := 8#32
  let v5238 : BitVec 32 := Scalar.muli v5233 c8_i32_3228
  let v5239 : BitVec 32 := v5238
  let c0_i32_3229 : BitVec 32 := 0#32
  ![v5234.toNat, v5239.toNat, 0]
def k0_off3445 (v5236 : BitVec 32) : Fin 2 → Nat :=
  let v5237 : BitVec 32 := v5236
  let c0_i32_3230 : BitVec 32 := 0#32
  ![v5237.toNat, 0]

def k0_chk857 (i : grid0.Coords) (v5236 : BitVec 32) : Prop :=
  (∀ (k0_h3 : k0_cond3 i = 1#1), 8 ∣ (k0_mult1713 v5236).toNat) ∧
  (∀ (k0_h3 : k0_cond3 i = 1#1), ∀ a, (k0_off3445 v5236) a + S8x128.size a ≤ S131072x128.size a)
theorem k0_mult1713_dvd : ∀ (i : grid0.Coords) (v5236 : BitVec 32) (k0_hw857 : k0_chk857 i v5236), ∀ (k0_h3 : k0_cond3 i = 1#1), 8 ∣ (k0_mult1713 v5236).toNat := fun i v5236 k0_hw857 k0_h3 => k0_hw857.1 k0_h3
theorem k0_off3445_inb : ∀ (i : grid0.Coords) (v5236 : BitVec 32) (k0_hw857 : k0_chk857 i v5236), ∀ (k0_h3 : k0_cond3 i = 1#1), ∀ a, (k0_off3445 v5236) a + S8x128.size a ≤ S131072x128.size a := fun i v5236 k0_hw857 k0_h3 => k0_hw857.2 k0_h3

def k0_off3446 (i : grid0.Coords) : Fin 3 → Nat :=
  let c0_3236 : Index := 0#32
  let c0_3237 : Index := 0#32
  let arg1 : BitVec 32 := BitVec.ofNat 32 (i 1).val
  let c2_i32_3231 : BitVec 32 := 2#32
  let v5245 : BitVec 32 := Scalar.muli arg1 c2_i32_3231
  let c1_i32_3232 : BitVec 32 := 1#32
  let v5246 : BitVec 32 := Scalar.addi v5245 c1_i32_3232
  let c256_i32_3233 : BitVec 32 := 256#32
  let v5247 : BitVec 32 := Scalar.muli v5246 c256_i32_3233
  let c88_i32_3234 : BitVec 32 := 88#32
  let v5248 : BitVec 32 := Scalar.addi v5247 c88_i32_3234
  let v5250 : Index := Scalar.indexCast v5248
  ![0, 0, v5250.toNat]
def k0_mult1715 (v5251 : BitVec 32) : BitVec 32 :=
  v5251

def k0_mult1716 (i : grid0.Coords) : BitVec 32 :=
  let arg1 : BitVec 32 := BitVec.ofNat 32 (i 1).val
  let c2_i32_3231 : BitVec 32 := 2#32
  let v5245 : BitVec 32 := Scalar.muli arg1 c2_i32_3231
  let c1_i32_3232 : BitVec 32 := 1#32
  let v5246 : BitVec 32 := Scalar.addi v5245 c1_i32_3232
  let c256_i32_3233 : BitVec 32 := 256#32
  let v5247 : BitVec 32 := Scalar.muli v5246 c256_i32_3233
  let c88_i32_3234 : BitVec 32 := 88#32
  let v5248 : BitVec 32 := Scalar.addi v5247 c88_i32_3234
  let c8_i32_3238 : BitVec 32 := 8#32
  let v5253 : BitVec 32 := Scalar.muli v5248 c8_i32_3238
  v5253
def k0_off3447 (i : grid0.Coords) : Fin 1 → Nat :=
  let c1_i32_3235 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5249 : BitVec 32 := Scalar.subi c1_i32_3235 v9
  ![v5249.toNat]
def k0_off3448 (i : grid0.Coords) : Fin 3 → Nat :=
  let c1_i32_3235 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5249 : BitVec 32 := Scalar.subi c1_i32_3235 v9
  let arg1 : BitVec 32 := BitVec.ofNat 32 (i 1).val
  let c2_i32_3231 : BitVec 32 := 2#32
  let v5245 : BitVec 32 := Scalar.muli arg1 c2_i32_3231
  let c1_i32_3232 : BitVec 32 := 1#32
  let v5246 : BitVec 32 := Scalar.addi v5245 c1_i32_3232
  let c256_i32_3233 : BitVec 32 := 256#32
  let v5247 : BitVec 32 := Scalar.muli v5246 c256_i32_3233
  let c88_i32_3234 : BitVec 32 := 88#32
  let v5248 : BitVec 32 := Scalar.addi v5247 c88_i32_3234
  let c8_i32_3238 : BitVec 32 := 8#32
  let v5253 : BitVec 32 := Scalar.muli v5248 c8_i32_3238
  let v5254 : BitVec 32 := v5253
  let c0_i32_3239 : BitVec 32 := 0#32
  ![v5249.toNat, v5254.toNat, 0]
def k0_off3449 (v5251 : BitVec 32) : Fin 2 → Nat :=
  let v5252 : BitVec 32 := v5251
  let c0_i32_3240 : BitVec 32 := 0#32
  ![v5252.toNat, 0]

def k0_chk858 (i : grid0.Coords) (v5251 : BitVec 32) : Prop :=
  (∀ (k0_h3 : k0_cond3 i = 1#1), 8 ∣ (k0_mult1715 v5251).toNat) ∧
  (∀ (k0_h3 : k0_cond3 i = 1#1), ∀ a, (k0_off3449 v5251) a + S8x128.size a ≤ S131072x128.size a)
theorem k0_mult1715_dvd : ∀ (i : grid0.Coords) (v5251 : BitVec 32) (k0_hw858 : k0_chk858 i v5251), ∀ (k0_h3 : k0_cond3 i = 1#1), 8 ∣ (k0_mult1715 v5251).toNat := fun i v5251 k0_hw858 k0_h3 => k0_hw858.1 k0_h3
theorem k0_off3449_inb : ∀ (i : grid0.Coords) (v5251 : BitVec 32) (k0_hw858 : k0_chk858 i v5251), ∀ (k0_h3 : k0_cond3 i = 1#1), ∀ a, (k0_off3449 v5251) a + S8x128.size a ≤ S131072x128.size a := fun i v5251 k0_hw858 k0_h3 => k0_hw858.2 k0_h3

def k0_off3450 (i : grid0.Coords) : Fin 3 → Nat :=
  let c0_3246 : Index := 0#32
  let c0_3247 : Index := 0#32
  let arg1 : BitVec 32 := BitVec.ofNat 32 (i 1).val
  let c2_i32_3241 : BitVec 32 := 2#32
  let v5260 : BitVec 32 := Scalar.muli arg1 c2_i32_3241
  let c1_i32_3242 : BitVec 32 := 1#32
  let v5261 : BitVec 32 := Scalar.addi v5260 c1_i32_3242
  let c256_i32_3243 : BitVec 32 := 256#32
  let v5262 : BitVec 32 := Scalar.muli v5261 c256_i32_3243
  let c89_i32_3244 : BitVec 32 := 89#32
  let v5263 : BitVec 32 := Scalar.addi v5262 c89_i32_3244
  let v5265 : Index := Scalar.indexCast v5263
  ![0, 0, v5265.toNat]
def k0_mult1717 (v5266 : BitVec 32) : BitVec 32 :=
  v5266

def k0_mult1718 (i : grid0.Coords) : BitVec 32 :=
  let arg1 : BitVec 32 := BitVec.ofNat 32 (i 1).val
  let c2_i32_3241 : BitVec 32 := 2#32
  let v5260 : BitVec 32 := Scalar.muli arg1 c2_i32_3241
  let c1_i32_3242 : BitVec 32 := 1#32
  let v5261 : BitVec 32 := Scalar.addi v5260 c1_i32_3242
  let c256_i32_3243 : BitVec 32 := 256#32
  let v5262 : BitVec 32 := Scalar.muli v5261 c256_i32_3243
  let c89_i32_3244 : BitVec 32 := 89#32
  let v5263 : BitVec 32 := Scalar.addi v5262 c89_i32_3244
  let c8_i32_3248 : BitVec 32 := 8#32
  let v5268 : BitVec 32 := Scalar.muli v5263 c8_i32_3248
  v5268
def k0_off3451 (i : grid0.Coords) : Fin 1 → Nat :=
  let c1_i32_3245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5264 : BitVec 32 := Scalar.subi c1_i32_3245 v9
  ![v5264.toNat]
def k0_off3452 (i : grid0.Coords) : Fin 3 → Nat :=
  let c1_i32_3245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5264 : BitVec 32 := Scalar.subi c1_i32_3245 v9
  let arg1 : BitVec 32 := BitVec.ofNat 32 (i 1).val
  let c2_i32_3241 : BitVec 32 := 2#32
  let v5260 : BitVec 32 := Scalar.muli arg1 c2_i32_3241
  let c1_i32_3242 : BitVec 32 := 1#32
  let v5261 : BitVec 32 := Scalar.addi v5260 c1_i32_3242
  let c256_i32_3243 : BitVec 32 := 256#32
  let v5262 : BitVec 32 := Scalar.muli v5261 c256_i32_3243
  let c89_i32_3244 : BitVec 32 := 89#32
  let v5263 : BitVec 32 := Scalar.addi v5262 c89_i32_3244
  let c8_i32_3248 : BitVec 32 := 8#32
  let v5268 : BitVec 32 := Scalar.muli v5263 c8_i32_3248
  let v5269 : BitVec 32 := v5268
  let c0_i32_3249 : BitVec 32 := 0#32
  ![v5264.toNat, v5269.toNat, 0]
def k0_off3453 (v5266 : BitVec 32) : Fin 2 → Nat :=
  let v5267 : BitVec 32 := v5266
  let c0_i32_3250 : BitVec 32 := 0#32
  ![v5267.toNat, 0]

def k0_chk859 (i : grid0.Coords) (v5266 : BitVec 32) : Prop :=
  (∀ (k0_h3 : k0_cond3 i = 1#1), 8 ∣ (k0_mult1717 v5266).toNat) ∧
  (∀ (k0_h3 : k0_cond3 i = 1#1), ∀ a, (k0_off3453 v5266) a + S8x128.size a ≤ S131072x128.size a)
theorem k0_mult1717_dvd : ∀ (i : grid0.Coords) (v5266 : BitVec 32) (k0_hw859 : k0_chk859 i v5266), ∀ (k0_h3 : k0_cond3 i = 1#1), 8 ∣ (k0_mult1717 v5266).toNat := fun i v5266 k0_hw859 k0_h3 => k0_hw859.1 k0_h3
theorem k0_off3453_inb : ∀ (i : grid0.Coords) (v5266 : BitVec 32) (k0_hw859 : k0_chk859 i v5266), ∀ (k0_h3 : k0_cond3 i = 1#1), ∀ a, (k0_off3453 v5266) a + S8x128.size a ≤ S131072x128.size a := fun i v5266 k0_hw859 k0_h3 => k0_hw859.2 k0_h3

def k0_off3454 (i : grid0.Coords) : Fin 3 → Nat :=
  let c0_3256 : Index := 0#32
  let c0_3257 : Index := 0#32
  let arg1 : BitVec 32 := BitVec.ofNat 32 (i 1).val
  let c2_i32_3251 : BitVec 32 := 2#32
  let v5275 : BitVec 32 := Scalar.muli arg1 c2_i32_3251
  let c1_i32_3252 : BitVec 32 := 1#32
  let v5276 : BitVec 32 := Scalar.addi v5275 c1_i32_3252
  let c256_i32_3253 : BitVec 32 := 256#32
  let v5277 : BitVec 32 := Scalar.muli v5276 c256_i32_3253
  let c90_i32_3254 : BitVec 32 := 90#32
  let v5278 : BitVec 32 := Scalar.addi v5277 c90_i32_3254
  let v5280 : Index := Scalar.indexCast v5278
  ![0, 0, v5280.toNat]
def k0_mult1719 (v5281 : BitVec 32) : BitVec 32 :=
  v5281

def k0_mult1720 (i : grid0.Coords) : BitVec 32 :=
  let arg1 : BitVec 32 := BitVec.ofNat 32 (i 1).val
  let c2_i32_3251 : BitVec 32 := 2#32
  let v5275 : BitVec 32 := Scalar.muli arg1 c2_i32_3251
  let c1_i32_3252 : BitVec 32 := 1#32
  let v5276 : BitVec 32 := Scalar.addi v5275 c1_i32_3252
  let c256_i32_3253 : BitVec 32 := 256#32
  let v5277 : BitVec 32 := Scalar.muli v5276 c256_i32_3253
  let c90_i32_3254 : BitVec 32 := 90#32
  let v5278 : BitVec 32 := Scalar.addi v5277 c90_i32_3254
  let c8_i32_3258 : BitVec 32 := 8#32
  let v5283 : BitVec 32 := Scalar.muli v5278 c8_i32_3258
  v5283
def k0_off3455 (i : grid0.Coords) : Fin 1 → Nat :=
  let c1_i32_3255 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5279 : BitVec 32 := Scalar.subi c1_i32_3255 v9
  ![v5279.toNat]
def k0_off3456 (i : grid0.Coords) : Fin 3 → Nat :=
  let c1_i32_3255 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5279 : BitVec 32 := Scalar.subi c1_i32_3255 v9
  let arg1 : BitVec 32 := BitVec.ofNat 32 (i 1).val
  let c2_i32_3251 : BitVec 32 := 2#32
  let v5275 : BitVec 32 := Scalar.muli arg1 c2_i32_3251
  let c1_i32_3252 : BitVec 32 := 1#32
  let v5276 : BitVec 32 := Scalar.addi v5275 c1_i32_3252
  let c256_i32_3253 : BitVec 32 := 256#32
  let v5277 : BitVec 32 := Scalar.muli v5276 c256_i32_3253
  let c90_i32_3254 : BitVec 32 := 90#32
  let v5278 : BitVec 32 := Scalar.addi v5277 c90_i32_3254
  let c8_i32_3258 : BitVec 32 := 8#32
  let v5283 : BitVec 32 := Scalar.muli v5278 c8_i32_3258
  let v5284 : BitVec 32 := v5283
  let c0_i32_3259 : BitVec 32 := 0#32
  ![v5279.toNat, v5284.toNat, 0]
def k0_off3457 (v5281 : BitVec 32) : Fin 2 → Nat :=
  let v5282 : BitVec 32 := v5281
  let c0_i32_3260 : BitVec 32 := 0#32
  ![v5282.toNat, 0]

def k0_chk860 (i : grid0.Coords) (v5281 : BitVec 32) : Prop :=
  (∀ (k0_h3 : k0_cond3 i = 1#1), 8 ∣ (k0_mult1719 v5281).toNat) ∧
  (∀ (k0_h3 : k0_cond3 i = 1#1), ∀ a, (k0_off3457 v5281) a + S8x128.size a ≤ S131072x128.size a)
theorem k0_mult1719_dvd : ∀ (i : grid0.Coords) (v5281 : BitVec 32) (k0_hw860 : k0_chk860 i v5281), ∀ (k0_h3 : k0_cond3 i = 1#1), 8 ∣ (k0_mult1719 v5281).toNat := fun i v5281 k0_hw860 k0_h3 => k0_hw860.1 k0_h3
theorem k0_off3457_inb : ∀ (i : grid0.Coords) (v5281 : BitVec 32) (k0_hw860 : k0_chk860 i v5281), ∀ (k0_h3 : k0_cond3 i = 1#1), ∀ a, (k0_off3457 v5281) a + S8x128.size a ≤ S131072x128.size a := fun i v5281 k0_hw860 k0_h3 => k0_hw860.2 k0_h3

def k0_off3458 (i : grid0.Coords) : Fin 3 → Nat :=
  let c0_3266 : Index := 0#32
  let c0_3267 : Index := 0#32
  let arg1 : BitVec 32 := BitVec.ofNat 32 (i 1).val
  let c2_i32_3261 : BitVec 32 := 2#32
  let v5290 : BitVec 32 := Scalar.muli arg1 c2_i32_3261
  let c1_i32_3262 : BitVec 32 := 1#32
  let v5291 : BitVec 32 := Scalar.addi v5290 c1_i32_3262
  let c256_i32_3263 : BitVec 32 := 256#32
  let v5292 : BitVec 32 := Scalar.muli v5291 c256_i32_3263
  let c91_i32_3264 : BitVec 32 := 91#32
  let v5293 : BitVec 32 := Scalar.addi v5292 c91_i32_3264
  let v5295 : Index := Scalar.indexCast v5293
  ![0, 0, v5295.toNat]
def k0_mult1721 (v5296 : BitVec 32) : BitVec 32 :=
  v5296

def k0_mult1722 (i : grid0.Coords) : BitVec 32 :=
  let arg1 : BitVec 32 := BitVec.ofNat 32 (i 1).val
  let c2_i32_3261 : BitVec 32 := 2#32
  let v5290 : BitVec 32 := Scalar.muli arg1 c2_i32_3261
  let c1_i32_3262 : BitVec 32 := 1#32
  let v5291 : BitVec 32 := Scalar.addi v5290 c1_i32_3262
  let c256_i32_3263 : BitVec 32 := 256#32
  let v5292 : BitVec 32 := Scalar.muli v5291 c256_i32_3263
  let c91_i32_3264 : BitVec 32 := 91#32
  let v5293 : BitVec 32 := Scalar.addi v5292 c91_i32_3264
  let c8_i32_3268 : BitVec 32 := 8#32
  let v5298 : BitVec 32 := Scalar.muli v5293 c8_i32_3268
  v5298
def k0_off3459 (i : grid0.Coords) : Fin 1 → Nat :=
  let c1_i32_3265 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5294 : BitVec 32 := Scalar.subi c1_i32_3265 v9
  ![v5294.toNat]
def k0_off3460 (i : grid0.Coords) : Fin 3 → Nat :=
  let c1_i32_3265 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5294 : BitVec 32 := Scalar.subi c1_i32_3265 v9
  let arg1 : BitVec 32 := BitVec.ofNat 32 (i 1).val
  let c2_i32_3261 : BitVec 32 := 2#32
  let v5290 : BitVec 32 := Scalar.muli arg1 c2_i32_3261
  let c1_i32_3262 : BitVec 32 := 1#32
  let v5291 : BitVec 32 := Scalar.addi v5290 c1_i32_3262
  let c256_i32_3263 : BitVec 32 := 256#32
  let v5292 : BitVec 32 := Scalar.muli v5291 c256_i32_3263
  let c91_i32_3264 : BitVec 32 := 91#32
  let v5293 : BitVec 32 := Scalar.addi v5292 c91_i32_3264
  let c8_i32_3268 : BitVec 32 := 8#32
  let v5298 : BitVec 32 := Scalar.muli v5293 c8_i32_3268
  let v5299 : BitVec 32 := v5298
  let c0_i32_3269 : BitVec 32 := 0#32
  ![v5294.toNat, v5299.toNat, 0]
def k0_off3461 (v5296 : BitVec 32) : Fin 2 → Nat :=
  let v5297 : BitVec 32 := v5296
  let c0_i32_3270 : BitVec 32 := 0#32
  ![v5297.toNat, 0]

def k0_chk861 (i : grid0.Coords) (v5296 : BitVec 32) : Prop :=
  (∀ (k0_h3 : k0_cond3 i = 1#1), 8 ∣ (k0_mult1721 v5296).toNat) ∧
  (∀ (k0_h3 : k0_cond3 i = 1#1), ∀ a, (k0_off3461 v5296) a + S8x128.size a ≤ S131072x128.size a)
theorem k0_mult1721_dvd : ∀ (i : grid0.Coords) (v5296 : BitVec 32) (k0_hw861 : k0_chk861 i v5296), ∀ (k0_h3 : k0_cond3 i = 1#1), 8 ∣ (k0_mult1721 v5296).toNat := fun i v5296 k0_hw861 k0_h3 => k0_hw861.1 k0_h3
theorem k0_off3461_inb : ∀ (i : grid0.Coords) (v5296 : BitVec 32) (k0_hw861 : k0_chk861 i v5296), ∀ (k0_h3 : k0_cond3 i = 1#1), ∀ a, (k0_off3461 v5296) a + S8x128.size a ≤ S131072x128.size a := fun i v5296 k0_hw861 k0_h3 => k0_hw861.2 k0_h3

def k0_off3462 (i : grid0.Coords) : Fin 3 → Nat :=
  let c0_3276 : Index := 0#32
  let c0_3277 : Index := 0#32
  let arg1 : BitVec 32 := BitVec.ofNat 32 (i 1).val
  let c2_i32_3271 : BitVec 32 := 2#32
  let v5305 : BitVec 32 := Scalar.muli arg1 c2_i32_3271
  let c1_i32_3272 : BitVec 32 := 1#32
  let v5306 : BitVec 32 := Scalar.addi v5305 c1_i32_3272
  let c256_i32_3273 : BitVec 32 := 256#32
  let v5307 : BitVec 32 := Scalar.muli v5306 c256_i32_3273
  let c92_i32_3274 : BitVec 32 := 92#32
  let v5308 : BitVec 32 := Scalar.addi v5307 c92_i32_3274
  let v5310 : Index := Scalar.indexCast v5308
  ![0, 0, v5310.toNat]
def k0_mult1723 (v5311 : BitVec 32) : BitVec 32 :=
  v5311

def k0_mult1724 (i : grid0.Coords) : BitVec 32 :=
  let arg1 : BitVec 32 := BitVec.ofNat 32 (i 1).val
  let c2_i32_3271 : BitVec 32 := 2#32
  let v5305 : BitVec 32 := Scalar.muli arg1 c2_i32_3271
  let c1_i32_3272 : BitVec 32 := 1#32
  let v5306 : BitVec 32 := Scalar.addi v5305 c1_i32_3272
  let c256_i32_3273 : BitVec 32 := 256#32
  let v5307 : BitVec 32 := Scalar.muli v5306 c256_i32_3273
  let c92_i32_3274 : BitVec 32 := 92#32
  let v5308 : BitVec 32 := Scalar.addi v5307 c92_i32_3274
  let c8_i32_3278 : BitVec 32 := 8#32
  let v5313 : BitVec 32 := Scalar.muli v5308 c8_i32_3278
  v5313
def k0_off3463 (i : grid0.Coords) : Fin 1 → Nat :=
  let c1_i32_3275 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5309 : BitVec 32 := Scalar.subi c1_i32_3275 v9
  ![v5309.toNat]
def k0_off3464 (i : grid0.Coords) : Fin 3 → Nat :=
  let c1_i32_3275 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5309 : BitVec 32 := Scalar.subi c1_i32_3275 v9
  let arg1 : BitVec 32 := BitVec.ofNat 32 (i 1).val
  let c2_i32_3271 : BitVec 32 := 2#32
  let v5305 : BitVec 32 := Scalar.muli arg1 c2_i32_3271
  let c1_i32_3272 : BitVec 32 := 1#32
  let v5306 : BitVec 32 := Scalar.addi v5305 c1_i32_3272
  let c256_i32_3273 : BitVec 32 := 256#32
  let v5307 : BitVec 32 := Scalar.muli v5306 c256_i32_3273
  let c92_i32_3274 : BitVec 32 := 92#32
  let v5308 : BitVec 32 := Scalar.addi v5307 c92_i32_3274
  let c8_i32_3278 : BitVec 32 := 8#32
  let v5313 : BitVec 32 := Scalar.muli v5308 c8_i32_3278
  let v5314 : BitVec 32 := v5313
  let c0_i32_3279 : BitVec 32 := 0#32
  ![v5309.toNat, v5314.toNat, 0]
def k0_off3465 (v5311 : BitVec 32) : Fin 2 → Nat :=
  let v5312 : BitVec 32 := v5311
  let c0_i32_3280 : BitVec 32 := 0#32
  ![v5312.toNat, 0]

def k0_chk862 (i : grid0.Coords) (v5311 : BitVec 32) : Prop :=
  (∀ (k0_h3 : k0_cond3 i = 1#1), 8 ∣ (k0_mult1723 v5311).toNat) ∧
  (∀ (k0_h3 : k0_cond3 i = 1#1), ∀ a, (k0_off3465 v5311) a + S8x128.size a ≤ S131072x128.size a)
theorem k0_mult1723_dvd : ∀ (i : grid0.Coords) (v5311 : BitVec 32) (k0_hw862 : k0_chk862 i v5311), ∀ (k0_h3 : k0_cond3 i = 1#1), 8 ∣ (k0_mult1723 v5311).toNat := fun i v5311 k0_hw862 k0_h3 => k0_hw862.1 k0_h3
theorem k0_off3465_inb : ∀ (i : grid0.Coords) (v5311 : BitVec 32) (k0_hw862 : k0_chk862 i v5311), ∀ (k0_h3 : k0_cond3 i = 1#1), ∀ a, (k0_off3465 v5311) a + S8x128.size a ≤ S131072x128.size a := fun i v5311 k0_hw862 k0_h3 => k0_hw862.2 k0_h3

def k0_off3466 (i : grid0.Coords) : Fin 3 → Nat :=
  let c0_3286 : Index := 0#32
  let c0_3287 : Index := 0#32
  let arg1 : BitVec 32 := BitVec.ofNat 32 (i 1).val
  let c2_i32_3281 : BitVec 32 := 2#32
  let v5320 : BitVec 32 := Scalar.muli arg1 c2_i32_3281
  let c1_i32_3282 : BitVec 32 := 1#32
  let v5321 : BitVec 32 := Scalar.addi v5320 c1_i32_3282
  let c256_i32_3283 : BitVec 32 := 256#32
  let v5322 : BitVec 32 := Scalar.muli v5321 c256_i32_3283
  let c93_i32_3284 : BitVec 32 := 93#32
  let v5323 : BitVec 32 := Scalar.addi v5322 c93_i32_3284
  let v5325 : Index := Scalar.indexCast v5323
  ![0, 0, v5325.toNat]
def k0_mult1725 (v5326 : BitVec 32) : BitVec 32 :=
  v5326

def k0_mult1726 (i : grid0.Coords) : BitVec 32 :=
  let arg1 : BitVec 32 := BitVec.ofNat 32 (i 1).val
  let c2_i32_3281 : BitVec 32 := 2#32
  let v5320 : BitVec 32 := Scalar.muli arg1 c2_i32_3281
  let c1_i32_3282 : BitVec 32 := 1#32
  let v5321 : BitVec 32 := Scalar.addi v5320 c1_i32_3282
  let c256_i32_3283 : BitVec 32 := 256#32
  let v5322 : BitVec 32 := Scalar.muli v5321 c256_i32_3283
  let c93_i32_3284 : BitVec 32 := 93#32
  let v5323 : BitVec 32 := Scalar.addi v5322 c93_i32_3284
  let c8_i32_3288 : BitVec 32 := 8#32
  let v5328 : BitVec 32 := Scalar.muli v5323 c8_i32_3288
  v5328
def k0_off3467 (i : grid0.Coords) : Fin 1 → Nat :=
  let c1_i32_3285 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5324 : BitVec 32 := Scalar.subi c1_i32_3285 v9
  ![v5324.toNat]
def k0_off3468 (i : grid0.Coords) : Fin 3 → Nat :=
  let c1_i32_3285 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5324 : BitVec 32 := Scalar.subi c1_i32_3285 v9
  let arg1 : BitVec 32 := BitVec.ofNat 32 (i 1).val
  let c2_i32_3281 : BitVec 32 := 2#32
  let v5320 : BitVec 32 := Scalar.muli arg1 c2_i32_3281
  let c1_i32_3282 : BitVec 32 := 1#32
  let v5321 : BitVec 32 := Scalar.addi v5320 c1_i32_3282
  let c256_i32_3283 : BitVec 32 := 256#32
  let v5322 : BitVec 32 := Scalar.muli v5321 c256_i32_3283
  let c93_i32_3284 : BitVec 32 := 93#32
  let v5323 : BitVec 32 := Scalar.addi v5322 c93_i32_3284
  let c8_i32_3288 : BitVec 32 := 8#32
  let v5328 : BitVec 32 := Scalar.muli v5323 c8_i32_3288
  let v5329 : BitVec 32 := v5328
  let c0_i32_3289 : BitVec 32 := 0#32
  ![v5324.toNat, v5329.toNat, 0]
def k0_off3469 (v5326 : BitVec 32) : Fin 2 → Nat :=
  let v5327 : BitVec 32 := v5326
  let c0_i32_3290 : BitVec 32 := 0#32
  ![v5327.toNat, 0]

def k0_chk863 (i : grid0.Coords) (v5326 : BitVec 32) : Prop :=
  (∀ (k0_h3 : k0_cond3 i = 1#1), 8 ∣ (k0_mult1725 v5326).toNat) ∧
  (∀ (k0_h3 : k0_cond3 i = 1#1), ∀ a, (k0_off3469 v5326) a + S8x128.size a ≤ S131072x128.size a)
theorem k0_mult1725_dvd : ∀ (i : grid0.Coords) (v5326 : BitVec 32) (k0_hw863 : k0_chk863 i v5326), ∀ (k0_h3 : k0_cond3 i = 1#1), 8 ∣ (k0_mult1725 v5326).toNat := fun i v5326 k0_hw863 k0_h3 => k0_hw863.1 k0_h3
theorem k0_off3469_inb : ∀ (i : grid0.Coords) (v5326 : BitVec 32) (k0_hw863 : k0_chk863 i v5326), ∀ (k0_h3 : k0_cond3 i = 1#1), ∀ a, (k0_off3469 v5326) a + S8x128.size a ≤ S131072x128.size a := fun i v5326 k0_hw863 k0_h3 => k0_hw863.2 k0_h3

def k0_off3470 (i : grid0.Coords) : Fin 3 → Nat :=
  let c0_3296 : Index := 0#32
  let c0_3297 : Index := 0#32
  let arg1 : BitVec 32 := BitVec.ofNat 32 (i 1).val
  let c2_i32_3291 : BitVec 32 := 2#32
  let v5335 : BitVec 32 := Scalar.muli arg1 c2_i32_3291
  let c1_i32_3292 : BitVec 32 := 1#32
  let v5336 : BitVec 32 := Scalar.addi v5335 c1_i32_3292
  let c256_i32_3293 : BitVec 32 := 256#32
  let v5337 : BitVec 32 := Scalar.muli v5336 c256_i32_3293
  let c94_i32_3294 : BitVec 32 := 94#32
  let v5338 : BitVec 32 := Scalar.addi v5337 c94_i32_3294
  let v5340 : Index := Scalar.indexCast v5338
  ![0, 0, v5340.toNat]
def k0_mult1727 (v5341 : BitVec 32) : BitVec 32 :=
  v5341

def k0_mult1728 (i : grid0.Coords) : BitVec 32 :=
  let arg1 : BitVec 32 := BitVec.ofNat 32 (i 1).val
  let c2_i32_3291 : BitVec 32 := 2#32
  let v5335 : BitVec 32 := Scalar.muli arg1 c2_i32_3291
  let c1_i32_3292 : BitVec 32 := 1#32
  let v5336 : BitVec 32 := Scalar.addi v5335 c1_i32_3292
  let c256_i32_3293 : BitVec 32 := 256#32
  let v5337 : BitVec 32 := Scalar.muli v5336 c256_i32_3293
  let c94_i32_3294 : BitVec 32 := 94#32
  let v5338 : BitVec 32 := Scalar.addi v5337 c94_i32_3294
  let c8_i32_3298 : BitVec 32 := 8#32
  let v5343 : BitVec 32 := Scalar.muli v5338 c8_i32_3298
  v5343
def k0_off3471 (i : grid0.Coords) : Fin 1 → Nat :=
  let c1_i32_3295 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5339 : BitVec 32 := Scalar.subi c1_i32_3295 v9
  ![v5339.toNat]
def k0_off3472 (i : grid0.Coords) : Fin 3 → Nat :=
  let c1_i32_3295 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5339 : BitVec 32 := Scalar.subi c1_i32_3295 v9
  let arg1 : BitVec 32 := BitVec.ofNat 32 (i 1).val
  let c2_i32_3291 : BitVec 32 := 2#32
  let v5335 : BitVec 32 := Scalar.muli arg1 c2_i32_3291
  let c1_i32_3292 : BitVec 32 := 1#32
  let v5336 : BitVec 32 := Scalar.addi v5335 c1_i32_3292
  let c256_i32_3293 : BitVec 32 := 256#32
  let v5337 : BitVec 32 := Scalar.muli v5336 c256_i32_3293
  let c94_i32_3294 : BitVec 32 := 94#32
  let v5338 : BitVec 32 := Scalar.addi v5337 c94_i32_3294
  let c8_i32_3298 : BitVec 32 := 8#32
  let v5343 : BitVec 32 := Scalar.muli v5338 c8_i32_3298
  let v5344 : BitVec 32 := v5343
  let c0_i32_3299 : BitVec 32 := 0#32
  ![v5339.toNat, v5344.toNat, 0]
def k0_off3473 (v5341 : BitVec 32) : Fin 2 → Nat :=
  let v5342 : BitVec 32 := v5341
  let c0_i32_3300 : BitVec 32 := 0#32
  ![v5342.toNat, 0]

def k0_chk864 (i : grid0.Coords) (v5341 : BitVec 32) : Prop :=
  (∀ (k0_h3 : k0_cond3 i = 1#1), 8 ∣ (k0_mult1727 v5341).toNat) ∧
  (∀ (k0_h3 : k0_cond3 i = 1#1), ∀ a, (k0_off3473 v5341) a + S8x128.size a ≤ S131072x128.size a)
theorem k0_mult1727_dvd : ∀ (i : grid0.Coords) (v5341 : BitVec 32) (k0_hw864 : k0_chk864 i v5341), ∀ (k0_h3 : k0_cond3 i = 1#1), 8 ∣ (k0_mult1727 v5341).toNat := fun i v5341 k0_hw864 k0_h3 => k0_hw864.1 k0_h3
theorem k0_off3473_inb : ∀ (i : grid0.Coords) (v5341 : BitVec 32) (k0_hw864 : k0_chk864 i v5341), ∀ (k0_h3 : k0_cond3 i = 1#1), ∀ a, (k0_off3473 v5341) a + S8x128.size a ≤ S131072x128.size a := fun i v5341 k0_hw864 k0_h3 => k0_hw864.2 k0_h3

def k0_off3474 (i : grid0.Coords) : Fin 3 → Nat :=
  let c0_3306 : Index := 0#32
  let c0_3307 : Index := 0#32
  let arg1 : BitVec 32 := BitVec.ofNat 32 (i 1).val
  let c2_i32_3301 : BitVec 32 := 2#32
  let v5350 : BitVec 32 := Scalar.muli arg1 c2_i32_3301
  let c1_i32_3302 : BitVec 32 := 1#32
  let v5351 : BitVec 32 := Scalar.addi v5350 c1_i32_3302
  let c256_i32_3303 : BitVec 32 := 256#32
  let v5352 : BitVec 32 := Scalar.muli v5351 c256_i32_3303
  let c95_i32_3304 : BitVec 32 := 95#32
  let v5353 : BitVec 32 := Scalar.addi v5352 c95_i32_3304
  let v5355 : Index := Scalar.indexCast v5353
  ![0, 0, v5355.toNat]
def k0_mult1729 (v5356 : BitVec 32) : BitVec 32 :=
  v5356

def k0_mult1730 (i : grid0.Coords) : BitVec 32 :=
  let arg1 : BitVec 32 := BitVec.ofNat 32 (i 1).val
  let c2_i32_3301 : BitVec 32 := 2#32
  let v5350 : BitVec 32 := Scalar.muli arg1 c2_i32_3301
  let c1_i32_3302 : BitVec 32 := 1#32
  let v5351 : BitVec 32 := Scalar.addi v5350 c1_i32_3302
  let c256_i32_3303 : BitVec 32 := 256#32
  let v5352 : BitVec 32 := Scalar.muli v5351 c256_i32_3303
  let c95_i32_3304 : BitVec 32 := 95#32
  let v5353 : BitVec 32 := Scalar.addi v5352 c95_i32_3304
  let c8_i32_3308 : BitVec 32 := 8#32
  let v5358 : BitVec 32 := Scalar.muli v5353 c8_i32_3308
  v5358
def k0_off3475 (i : grid0.Coords) : Fin 1 → Nat :=
  let c1_i32_3305 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5354 : BitVec 32 := Scalar.subi c1_i32_3305 v9
  ![v5354.toNat]
def k0_off3476 (i : grid0.Coords) : Fin 3 → Nat :=
  let c1_i32_3305 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5354 : BitVec 32 := Scalar.subi c1_i32_3305 v9
  let arg1 : BitVec 32 := BitVec.ofNat 32 (i 1).val
  let c2_i32_3301 : BitVec 32 := 2#32
  let v5350 : BitVec 32 := Scalar.muli arg1 c2_i32_3301
  let c1_i32_3302 : BitVec 32 := 1#32
  let v5351 : BitVec 32 := Scalar.addi v5350 c1_i32_3302
  let c256_i32_3303 : BitVec 32 := 256#32
  let v5352 : BitVec 32 := Scalar.muli v5351 c256_i32_3303
  let c95_i32_3304 : BitVec 32 := 95#32
  let v5353 : BitVec 32 := Scalar.addi v5352 c95_i32_3304
  let c8_i32_3308 : BitVec 32 := 8#32
  let v5358 : BitVec 32 := Scalar.muli v5353 c8_i32_3308
  let v5359 : BitVec 32 := v5358
  let c0_i32_3309 : BitVec 32 := 0#32
  ![v5354.toNat, v5359.toNat, 0]
def k0_off3477 (v5356 : BitVec 32) : Fin 2 → Nat :=
  let v5357 : BitVec 32 := v5356
  let c0_i32_3310 : BitVec 32 := 0#32
  ![v5357.toNat, 0]

def k0_chk865 (i : grid0.Coords) (v5356 : BitVec 32) : Prop :=
  (∀ (k0_h3 : k0_cond3 i = 1#1), 8 ∣ (k0_mult1729 v5356).toNat) ∧
  (∀ (k0_h3 : k0_cond3 i = 1#1), ∀ a, (k0_off3477 v5356) a + S8x128.size a ≤ S131072x128.size a)
theorem k0_mult1729_dvd : ∀ (i : grid0.Coords) (v5356 : BitVec 32) (k0_hw865 : k0_chk865 i v5356), ∀ (k0_h3 : k0_cond3 i = 1#1), 8 ∣ (k0_mult1729 v5356).toNat := fun i v5356 k0_hw865 k0_h3 => k0_hw865.1 k0_h3
theorem k0_off3477_inb : ∀ (i : grid0.Coords) (v5356 : BitVec 32) (k0_hw865 : k0_chk865 i v5356), ∀ (k0_h3 : k0_cond3 i = 1#1), ∀ a, (k0_off3477 v5356) a + S8x128.size a ≤ S131072x128.size a := fun i v5356 k0_hw865 k0_h3 => k0_hw865.2 k0_h3

def k0_off3478 (i : grid0.Coords) : Fin 3 → Nat :=
  let c0_3316 : Index := 0#32
  let c0_3317 : Index := 0#32
  let arg1 : BitVec 32 := BitVec.ofNat 32 (i 1).val
  let c2_i32_3311 : BitVec 32 := 2#32
  let v5365 : BitVec 32 := Scalar.muli arg1 c2_i32_3311
  let c1_i32_3312 : BitVec 32 := 1#32
  let v5366 : BitVec 32 := Scalar.addi v5365 c1_i32_3312
  let c256_i32_3313 : BitVec 32 := 256#32
  let v5367 : BitVec 32 := Scalar.muli v5366 c256_i32_3313
  let c96_i32_3314 : BitVec 32 := 96#32
  let v5368 : BitVec 32 := Scalar.addi v5367 c96_i32_3314
  let v5370 : Index := Scalar.indexCast v5368
  ![0, 0, v5370.toNat]
def k0_mult1731 (v5371 : BitVec 32) : BitVec 32 :=
  v5371

def k0_mult1732 (i : grid0.Coords) : BitVec 32 :=
  let arg1 : BitVec 32 := BitVec.ofNat 32 (i 1).val
  let c2_i32_3311 : BitVec 32 := 2#32
  let v5365 : BitVec 32 := Scalar.muli arg1 c2_i32_3311
  let c1_i32_3312 : BitVec 32 := 1#32
  let v5366 : BitVec 32 := Scalar.addi v5365 c1_i32_3312
  let c256_i32_3313 : BitVec 32 := 256#32
  let v5367 : BitVec 32 := Scalar.muli v5366 c256_i32_3313
  let c96_i32_3314 : BitVec 32 := 96#32
  let v5368 : BitVec 32 := Scalar.addi v5367 c96_i32_3314
  let c8_i32_3318 : BitVec 32 := 8#32
  let v5373 : BitVec 32 := Scalar.muli v5368 c8_i32_3318
  v5373
def k0_off3479 (i : grid0.Coords) : Fin 1 → Nat :=
  let c1_i32_3315 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5369 : BitVec 32 := Scalar.subi c1_i32_3315 v9
  ![v5369.toNat]
def k0_off3480 (i : grid0.Coords) : Fin 3 → Nat :=
  let c1_i32_3315 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5369 : BitVec 32 := Scalar.subi c1_i32_3315 v9
  let arg1 : BitVec 32 := BitVec.ofNat 32 (i 1).val
  let c2_i32_3311 : BitVec 32 := 2#32
  let v5365 : BitVec 32 := Scalar.muli arg1 c2_i32_3311
  let c1_i32_3312 : BitVec 32 := 1#32
  let v5366 : BitVec 32 := Scalar.addi v5365 c1_i32_3312
  let c256_i32_3313 : BitVec 32 := 256#32
  let v5367 : BitVec 32 := Scalar.muli v5366 c256_i32_3313
  let c96_i32_3314 : BitVec 32 := 96#32
  let v5368 : BitVec 32 := Scalar.addi v5367 c96_i32_3314
  let c8_i32_3318 : BitVec 32 := 8#32
  let v5373 : BitVec 32 := Scalar.muli v5368 c8_i32_3318
  let v5374 : BitVec 32 := v5373
  let c0_i32_3319 : BitVec 32 := 0#32
  ![v5369.toNat, v5374.toNat, 0]
def k0_off3481 (v5371 : BitVec 32) : Fin 2 → Nat :=
  let v5372 : BitVec 32 := v5371
  let c0_i32_3320 : BitVec 32 := 0#32
  ![v5372.toNat, 0]

def k0_chk866 (i : grid0.Coords) (v5371 : BitVec 32) : Prop :=
  (∀ (k0_h3 : k0_cond3 i = 1#1), 8 ∣ (k0_mult1731 v5371).toNat) ∧
  (∀ (k0_h3 : k0_cond3 i = 1#1), ∀ a, (k0_off3481 v5371) a + S8x128.size a ≤ S131072x128.size a)
theorem k0_mult1731_dvd : ∀ (i : grid0.Coords) (v5371 : BitVec 32) (k0_hw866 : k0_chk866 i v5371), ∀ (k0_h3 : k0_cond3 i = 1#1), 8 ∣ (k0_mult1731 v5371).toNat := fun i v5371 k0_hw866 k0_h3 => k0_hw866.1 k0_h3
theorem k0_off3481_inb : ∀ (i : grid0.Coords) (v5371 : BitVec 32) (k0_hw866 : k0_chk866 i v5371), ∀ (k0_h3 : k0_cond3 i = 1#1), ∀ a, (k0_off3481 v5371) a + S8x128.size a ≤ S131072x128.size a := fun i v5371 k0_hw866 k0_h3 => k0_hw866.2 k0_h3

def k0_off3482 (i : grid0.Coords) : Fin 3 → Nat :=
  let c0_3326 : Index := 0#32
  let c0_3327 : Index := 0#32
  let arg1 : BitVec 32 := BitVec.ofNat 32 (i 1).val
  let c2_i32_3321 : BitVec 32 := 2#32
  let v5380 : BitVec 32 := Scalar.muli arg1 c2_i32_3321
  let c1_i32_3322 : BitVec 32 := 1#32
  let v5381 : BitVec 32 := Scalar.addi v5380 c1_i32_3322
  let c256_i32_3323 : BitVec 32 := 256#32
  let v5382 : BitVec 32 := Scalar.muli v5381 c256_i32_3323
  let c97_i32_3324 : BitVec 32 := 97#32
  let v5383 : BitVec 32 := Scalar.addi v5382 c97_i32_3324
  let v5385 : Index := Scalar.indexCast v5383
  ![0, 0, v5385.toNat]
def k0_mult1733 (v5386 : BitVec 32) : BitVec 32 :=
  v5386

def k0_mult1734 (i : grid0.Coords) : BitVec 32 :=
  let arg1 : BitVec 32 := BitVec.ofNat 32 (i 1).val
  let c2_i32_3321 : BitVec 32 := 2#32
  let v5380 : BitVec 32 := Scalar.muli arg1 c2_i32_3321
  let c1_i32_3322 : BitVec 32 := 1#32
  let v5381 : BitVec 32 := Scalar.addi v5380 c1_i32_3322
  let c256_i32_3323 : BitVec 32 := 256#32
  let v5382 : BitVec 32 := Scalar.muli v5381 c256_i32_3323
  let c97_i32_3324 : BitVec 32 := 97#32
  let v5383 : BitVec 32 := Scalar.addi v5382 c97_i32_3324
  let c8_i32_3328 : BitVec 32 := 8#32
  let v5388 : BitVec 32 := Scalar.muli v5383 c8_i32_3328
  v5388
def k0_off3483 (i : grid0.Coords) : Fin 1 → Nat :=
  let c1_i32_3325 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5384 : BitVec 32 := Scalar.subi c1_i32_3325 v9
  ![v5384.toNat]
def k0_off3484 (i : grid0.Coords) : Fin 3 → Nat :=
  let c1_i32_3325 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5384 : BitVec 32 := Scalar.subi c1_i32_3325 v9
  let arg1 : BitVec 32 := BitVec.ofNat 32 (i 1).val
  let c2_i32_3321 : BitVec 32 := 2#32
  let v5380 : BitVec 32 := Scalar.muli arg1 c2_i32_3321
  let c1_i32_3322 : BitVec 32 := 1#32
  let v5381 : BitVec 32 := Scalar.addi v5380 c1_i32_3322
  let c256_i32_3323 : BitVec 32 := 256#32
  let v5382 : BitVec 32 := Scalar.muli v5381 c256_i32_3323
  let c97_i32_3324 : BitVec 32 := 97#32
  let v5383 : BitVec 32 := Scalar.addi v5382 c97_i32_3324
  let c8_i32_3328 : BitVec 32 := 8#32
  let v5388 : BitVec 32 := Scalar.muli v5383 c8_i32_3328
  let v5389 : BitVec 32 := v5388
  let c0_i32_3329 : BitVec 32 := 0#32
  ![v5384.toNat, v5389.toNat, 0]
def k0_off3485 (v5386 : BitVec 32) : Fin 2 → Nat :=
  let v5387 : BitVec 32 := v5386
  let c0_i32_3330 : BitVec 32 := 0#32
  ![v5387.toNat, 0]

def k0_chk867 (i : grid0.Coords) (v5386 : BitVec 32) : Prop :=
  (∀ (k0_h3 : k0_cond3 i = 1#1), 8 ∣ (k0_mult1733 v5386).toNat) ∧
  (∀ (k0_h3 : k0_cond3 i = 1#1), ∀ a, (k0_off3485 v5386) a + S8x128.size a ≤ S131072x128.size a)
theorem k0_mult1733_dvd : ∀ (i : grid0.Coords) (v5386 : BitVec 32) (k0_hw867 : k0_chk867 i v5386), ∀ (k0_h3 : k0_cond3 i = 1#1), 8 ∣ (k0_mult1733 v5386).toNat := fun i v5386 k0_hw867 k0_h3 => k0_hw867.1 k0_h3
theorem k0_off3485_inb : ∀ (i : grid0.Coords) (v5386 : BitVec 32) (k0_hw867 : k0_chk867 i v5386), ∀ (k0_h3 : k0_cond3 i = 1#1), ∀ a, (k0_off3485 v5386) a + S8x128.size a ≤ S131072x128.size a := fun i v5386 k0_hw867 k0_h3 => k0_hw867.2 k0_h3

def k0_off3486 (i : grid0.Coords) : Fin 3 → Nat :=
  let c0_3336 : Index := 0#32
  let c0_3337 : Index := 0#32
  let arg1 : BitVec 32 := BitVec.ofNat 32 (i 1).val
  let c2_i32_3331 : BitVec 32 := 2#32
  let v5395 : BitVec 32 := Scalar.muli arg1 c2_i32_3331
  let c1_i32_3332 : BitVec 32 := 1#32
  let v5396 : BitVec 32 := Scalar.addi v5395 c1_i32_3332
  let c256_i32_3333 : BitVec 32 := 256#32
  let v5397 : BitVec 32 := Scalar.muli v5396 c256_i32_3333
  let c98_i32_3334 : BitVec 32 := 98#32
  let v5398 : BitVec 32 := Scalar.addi v5397 c98_i32_3334
  let v5400 : Index := Scalar.indexCast v5398
  ![0, 0, v5400.toNat]
def k0_mult1735 (v5401 : BitVec 32) : BitVec 32 :=
  v5401

def k0_mult1736 (i : grid0.Coords) : BitVec 32 :=
  let arg1 : BitVec 32 := BitVec.ofNat 32 (i 1).val
  let c2_i32_3331 : BitVec 32 := 2#32
  let v5395 : BitVec 32 := Scalar.muli arg1 c2_i32_3331
  let c1_i32_3332 : BitVec 32 := 1#32
  let v5396 : BitVec 32 := Scalar.addi v5395 c1_i32_3332
  let c256_i32_3333 : BitVec 32 := 256#32
  let v5397 : BitVec 32 := Scalar.muli v5396 c256_i32_3333
  let c98_i32_3334 : BitVec 32 := 98#32
  let v5398 : BitVec 32 := Scalar.addi v5397 c98_i32_3334
  let c8_i32_3338 : BitVec 32 := 8#32
  let v5403 : BitVec 32 := Scalar.muli v5398 c8_i32_3338
  v5403
def k0_off3487 (i : grid0.Coords) : Fin 1 → Nat :=
  let c1_i32_3335 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5399 : BitVec 32 := Scalar.subi c1_i32_3335 v9
  ![v5399.toNat]
def k0_off3488 (i : grid0.Coords) : Fin 3 → Nat :=
  let c1_i32_3335 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5399 : BitVec 32 := Scalar.subi c1_i32_3335 v9
  let arg1 : BitVec 32 := BitVec.ofNat 32 (i 1).val
  let c2_i32_3331 : BitVec 32 := 2#32
  let v5395 : BitVec 32 := Scalar.muli arg1 c2_i32_3331
  let c1_i32_3332 : BitVec 32 := 1#32
  let v5396 : BitVec 32 := Scalar.addi v5395 c1_i32_3332
  let c256_i32_3333 : BitVec 32 := 256#32
  let v5397 : BitVec 32 := Scalar.muli v5396 c256_i32_3333
  let c98_i32_3334 : BitVec 32 := 98#32
  let v5398 : BitVec 32 := Scalar.addi v5397 c98_i32_3334
  let c8_i32_3338 : BitVec 32 := 8#32
  let v5403 : BitVec 32 := Scalar.muli v5398 c8_i32_3338
  let v5404 : BitVec 32 := v5403
  let c0_i32_3339 : BitVec 32 := 0#32
  ![v5399.toNat, v5404.toNat, 0]
def k0_off3489 (v5401 : BitVec 32) : Fin 2 → Nat :=
  let v5402 : BitVec 32 := v5401
  let c0_i32_3340 : BitVec 32 := 0#32
  ![v5402.toNat, 0]

def k0_chk868 (i : grid0.Coords) (v5401 : BitVec 32) : Prop :=
  (∀ (k0_h3 : k0_cond3 i = 1#1), 8 ∣ (k0_mult1735 v5401).toNat) ∧
  (∀ (k0_h3 : k0_cond3 i = 1#1), ∀ a, (k0_off3489 v5401) a + S8x128.size a ≤ S131072x128.size a)
theorem k0_mult1735_dvd : ∀ (i : grid0.Coords) (v5401 : BitVec 32) (k0_hw868 : k0_chk868 i v5401), ∀ (k0_h3 : k0_cond3 i = 1#1), 8 ∣ (k0_mult1735 v5401).toNat := fun i v5401 k0_hw868 k0_h3 => k0_hw868.1 k0_h3
theorem k0_off3489_inb : ∀ (i : grid0.Coords) (v5401 : BitVec 32) (k0_hw868 : k0_chk868 i v5401), ∀ (k0_h3 : k0_cond3 i = 1#1), ∀ a, (k0_off3489 v5401) a + S8x128.size a ≤ S131072x128.size a := fun i v5401 k0_hw868 k0_h3 => k0_hw868.2 k0_h3

def k0_off3490 (i : grid0.Coords) : Fin 3 → Nat :=
  let c0_3346 : Index := 0#32
  let c0_3347 : Index := 0#32
  let arg1 : BitVec 32 := BitVec.ofNat 32 (i 1).val
  let c2_i32_3341 : BitVec 32 := 2#32
  let v5410 : BitVec 32 := Scalar.muli arg1 c2_i32_3341
  let c1_i32_3342 : BitVec 32 := 1#32
  let v5411 : BitVec 32 := Scalar.addi v5410 c1_i32_3342
  let c256_i32_3343 : BitVec 32 := 256#32
  let v5412 : BitVec 32 := Scalar.muli v5411 c256_i32_3343
  let c99_i32_3344 : BitVec 32 := 99#32
  let v5413 : BitVec 32 := Scalar.addi v5412 c99_i32_3344
  let v5415 : Index := Scalar.indexCast v5413
  ![0, 0, v5415.toNat]
def k0_mult1737 (v5416 : BitVec 32) : BitVec 32 :=
  v5416

def k0_mult1738 (i : grid0.Coords) : BitVec 32 :=
  let arg1 : BitVec 32 := BitVec.ofNat 32 (i 1).val
  let c2_i32_3341 : BitVec 32 := 2#32
  let v5410 : BitVec 32 := Scalar.muli arg1 c2_i32_3341
  let c1_i32_3342 : BitVec 32 := 1#32
  let v5411 : BitVec 32 := Scalar.addi v5410 c1_i32_3342
  let c256_i32_3343 : BitVec 32 := 256#32
  let v5412 : BitVec 32 := Scalar.muli v5411 c256_i32_3343
  let c99_i32_3344 : BitVec 32 := 99#32
  let v5413 : BitVec 32 := Scalar.addi v5412 c99_i32_3344
  let c8_i32_3348 : BitVec 32 := 8#32
  let v5418 : BitVec 32 := Scalar.muli v5413 c8_i32_3348
  v5418
def k0_off3491 (i : grid0.Coords) : Fin 1 → Nat :=
  let c1_i32_3345 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5414 : BitVec 32 := Scalar.subi c1_i32_3345 v9
  ![v5414.toNat]
def k0_off3492 (i : grid0.Coords) : Fin 3 → Nat :=
  let c1_i32_3345 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5414 : BitVec 32 := Scalar.subi c1_i32_3345 v9
  let arg1 : BitVec 32 := BitVec.ofNat 32 (i 1).val
  let c2_i32_3341 : BitVec 32 := 2#32
  let v5410 : BitVec 32 := Scalar.muli arg1 c2_i32_3341
  let c1_i32_3342 : BitVec 32 := 1#32
  let v5411 : BitVec 32 := Scalar.addi v5410 c1_i32_3342
  let c256_i32_3343 : BitVec 32 := 256#32
  let v5412 : BitVec 32 := Scalar.muli v5411 c256_i32_3343
  let c99_i32_3344 : BitVec 32 := 99#32
  let v5413 : BitVec 32 := Scalar.addi v5412 c99_i32_3344
  let c8_i32_3348 : BitVec 32 := 8#32
  let v5418 : BitVec 32 := Scalar.muli v5413 c8_i32_3348
  let v5419 : BitVec 32 := v5418
  let c0_i32_3349 : BitVec 32 := 0#32
  ![v5414.toNat, v5419.toNat, 0]
def k0_off3493 (v5416 : BitVec 32) : Fin 2 → Nat :=
  let v5417 : BitVec 32 := v5416
  let c0_i32_3350 : BitVec 32 := 0#32
  ![v5417.toNat, 0]

def k0_chk869 (i : grid0.Coords) (v5416 : BitVec 32) : Prop :=
  (∀ (k0_h3 : k0_cond3 i = 1#1), 8 ∣ (k0_mult1737 v5416).toNat) ∧
  (∀ (k0_h3 : k0_cond3 i = 1#1), ∀ a, (k0_off3493 v5416) a + S8x128.size a ≤ S131072x128.size a)
theorem k0_mult1737_dvd : ∀ (i : grid0.Coords) (v5416 : BitVec 32) (k0_hw869 : k0_chk869 i v5416), ∀ (k0_h3 : k0_cond3 i = 1#1), 8 ∣ (k0_mult1737 v5416).toNat := fun i v5416 k0_hw869 k0_h3 => k0_hw869.1 k0_h3
theorem k0_off3493_inb : ∀ (i : grid0.Coords) (v5416 : BitVec 32) (k0_hw869 : k0_chk869 i v5416), ∀ (k0_h3 : k0_cond3 i = 1#1), ∀ a, (k0_off3493 v5416) a + S8x128.size a ≤ S131072x128.size a := fun i v5416 k0_hw869 k0_h3 => k0_hw869.2 k0_h3

def k0_off3494 (i : grid0.Coords) : Fin 3 → Nat :=
  let c0_3356 : Index := 0#32
  let c0_3357 : Index := 0#32
  let arg1 : BitVec 32 := BitVec.ofNat 32 (i 1).val
  let c2_i32_3351 : BitVec 32 := 2#32
  let v5425 : BitVec 32 := Scalar.muli arg1 c2_i32_3351
  let c1_i32_3352 : BitVec 32 := 1#32
  let v5426 : BitVec 32 := Scalar.addi v5425 c1_i32_3352
  let c256_i32_3353 : BitVec 32 := 256#32
  let v5427 : BitVec 32 := Scalar.muli v5426 c256_i32_3353
  let c100_i32_3354 : BitVec 32 := 100#32
  let v5428 : BitVec 32 := Scalar.addi v5427 c100_i32_3354
  let v5430 : Index := Scalar.indexCast v5428
  ![0, 0, v5430.toNat]
def k0_mult1739 (v5431 : BitVec 32) : BitVec 32 :=
  v5431

def k0_mult1740 (i : grid0.Coords) : BitVec 32 :=
  let arg1 : BitVec 32 := BitVec.ofNat 32 (i 1).val
  let c2_i32_3351 : BitVec 32 := 2#32
  let v5425 : BitVec 32 := Scalar.muli arg1 c2_i32_3351
  let c1_i32_3352 : BitVec 32 := 1#32
  let v5426 : BitVec 32 := Scalar.addi v5425 c1_i32_3352
  let c256_i32_3353 : BitVec 32 := 256#32
  let v5427 : BitVec 32 := Scalar.muli v5426 c256_i32_3353
  let c100_i32_3354 : BitVec 32 := 100#32
  let v5428 : BitVec 32 := Scalar.addi v5427 c100_i32_3354
  let c8_i32_3358 : BitVec 32 := 8#32
  let v5433 : BitVec 32 := Scalar.muli v5428 c8_i32_3358
  v5433
def k0_off3495 (i : grid0.Coords) : Fin 1 → Nat :=
  let c1_i32_3355 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5429 : BitVec 32 := Scalar.subi c1_i32_3355 v9
  ![v5429.toNat]
def k0_off3496 (i : grid0.Coords) : Fin 3 → Nat :=
  let c1_i32_3355 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5429 : BitVec 32 := Scalar.subi c1_i32_3355 v9
  let arg1 : BitVec 32 := BitVec.ofNat 32 (i 1).val
  let c2_i32_3351 : BitVec 32 := 2#32
  let v5425 : BitVec 32 := Scalar.muli arg1 c2_i32_3351
  let c1_i32_3352 : BitVec 32 := 1#32
  let v5426 : BitVec 32 := Scalar.addi v5425 c1_i32_3352
  let c256_i32_3353 : BitVec 32 := 256#32
  let v5427 : BitVec 32 := Scalar.muli v5426 c256_i32_3353
  let c100_i32_3354 : BitVec 32 := 100#32
  let v5428 : BitVec 32 := Scalar.addi v5427 c100_i32_3354
  let c8_i32_3358 : BitVec 32 := 8#32
  let v5433 : BitVec 32 := Scalar.muli v5428 c8_i32_3358
  let v5434 : BitVec 32 := v5433
  let c0_i32_3359 : BitVec 32 := 0#32
  ![v5429.toNat, v5434.toNat, 0]
def k0_off3497 (v5431 : BitVec 32) : Fin 2 → Nat :=
  let v5432 : BitVec 32 := v5431
  let c0_i32_3360 : BitVec 32 := 0#32
  ![v5432.toNat, 0]

def k0_chk870 (i : grid0.Coords) (v5431 : BitVec 32) : Prop :=
  (∀ (k0_h3 : k0_cond3 i = 1#1), 8 ∣ (k0_mult1739 v5431).toNat) ∧
  (∀ (k0_h3 : k0_cond3 i = 1#1), ∀ a, (k0_off3497 v5431) a + S8x128.size a ≤ S131072x128.size a)
theorem k0_mult1739_dvd : ∀ (i : grid0.Coords) (v5431 : BitVec 32) (k0_hw870 : k0_chk870 i v5431), ∀ (k0_h3 : k0_cond3 i = 1#1), 8 ∣ (k0_mult1739 v5431).toNat := fun i v5431 k0_hw870 k0_h3 => k0_hw870.1 k0_h3
theorem k0_off3497_inb : ∀ (i : grid0.Coords) (v5431 : BitVec 32) (k0_hw870 : k0_chk870 i v5431), ∀ (k0_h3 : k0_cond3 i = 1#1), ∀ a, (k0_off3497 v5431) a + S8x128.size a ≤ S131072x128.size a := fun i v5431 k0_hw870 k0_h3 => k0_hw870.2 k0_h3

def k0_off3498 (i : grid0.Coords) : Fin 3 → Nat :=
  let c0_3366 : Index := 0#32
  let c0_3367 : Index := 0#32
  let arg1 : BitVec 32 := BitVec.ofNat 32 (i 1).val
  let c2_i32_3361 : BitVec 32 := 2#32
  let v5440 : BitVec 32 := Scalar.muli arg1 c2_i32_3361
  let c1_i32_3362 : BitVec 32 := 1#32
  let v5441 : BitVec 32 := Scalar.addi v5440 c1_i32_3362
  let c256_i32_3363 : BitVec 32 := 256#32
  let v5442 : BitVec 32 := Scalar.muli v5441 c256_i32_3363
  let c101_i32_3364 : BitVec 32 := 101#32
  let v5443 : BitVec 32 := Scalar.addi v5442 c101_i32_3364
  let v5445 : Index := Scalar.indexCast v5443
  ![0, 0, v5445.toNat]
def k0_mult1741 (v5446 : BitVec 32) : BitVec 32 :=
  v5446

def k0_mult1742 (i : grid0.Coords) : BitVec 32 :=
  let arg1 : BitVec 32 := BitVec.ofNat 32 (i 1).val
  let c2_i32_3361 : BitVec 32 := 2#32
  let v5440 : BitVec 32 := Scalar.muli arg1 c2_i32_3361
  let c1_i32_3362 : BitVec 32 := 1#32
  let v5441 : BitVec 32 := Scalar.addi v5440 c1_i32_3362
  let c256_i32_3363 : BitVec 32 := 256#32
  let v5442 : BitVec 32 := Scalar.muli v5441 c256_i32_3363
  let c101_i32_3364 : BitVec 32 := 101#32
  let v5443 : BitVec 32 := Scalar.addi v5442 c101_i32_3364
  let c8_i32_3368 : BitVec 32 := 8#32
  let v5448 : BitVec 32 := Scalar.muli v5443 c8_i32_3368
  v5448
def k0_off3499 (i : grid0.Coords) : Fin 1 → Nat :=
  let c1_i32_3365 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5444 : BitVec 32 := Scalar.subi c1_i32_3365 v9
  ![v5444.toNat]
def k0_off3500 (i : grid0.Coords) : Fin 3 → Nat :=
  let c1_i32_3365 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5444 : BitVec 32 := Scalar.subi c1_i32_3365 v9
  let arg1 : BitVec 32 := BitVec.ofNat 32 (i 1).val
  let c2_i32_3361 : BitVec 32 := 2#32
  let v5440 : BitVec 32 := Scalar.muli arg1 c2_i32_3361
  let c1_i32_3362 : BitVec 32 := 1#32
  let v5441 : BitVec 32 := Scalar.addi v5440 c1_i32_3362
  let c256_i32_3363 : BitVec 32 := 256#32
  let v5442 : BitVec 32 := Scalar.muli v5441 c256_i32_3363
  let c101_i32_3364 : BitVec 32 := 101#32
  let v5443 : BitVec 32 := Scalar.addi v5442 c101_i32_3364
  let c8_i32_3368 : BitVec 32 := 8#32
  let v5448 : BitVec 32 := Scalar.muli v5443 c8_i32_3368
  let v5449 : BitVec 32 := v5448
  let c0_i32_3369 : BitVec 32 := 0#32
  ![v5444.toNat, v5449.toNat, 0]
def k0_off3501 (v5446 : BitVec 32) : Fin 2 → Nat :=
  let v5447 : BitVec 32 := v5446
  let c0_i32_3370 : BitVec 32 := 0#32
  ![v5447.toNat, 0]

def k0_chk871 (i : grid0.Coords) (v5446 : BitVec 32) : Prop :=
  (∀ (k0_h3 : k0_cond3 i = 1#1), 8 ∣ (k0_mult1741 v5446).toNat) ∧
  (∀ (k0_h3 : k0_cond3 i = 1#1), ∀ a, (k0_off3501 v5446) a + S8x128.size a ≤ S131072x128.size a)
theorem k0_mult1741_dvd : ∀ (i : grid0.Coords) (v5446 : BitVec 32) (k0_hw871 : k0_chk871 i v5446), ∀ (k0_h3 : k0_cond3 i = 1#1), 8 ∣ (k0_mult1741 v5446).toNat := fun i v5446 k0_hw871 k0_h3 => k0_hw871.1 k0_h3
theorem k0_off3501_inb : ∀ (i : grid0.Coords) (v5446 : BitVec 32) (k0_hw871 : k0_chk871 i v5446), ∀ (k0_h3 : k0_cond3 i = 1#1), ∀ a, (k0_off3501 v5446) a + S8x128.size a ≤ S131072x128.size a := fun i v5446 k0_hw871 k0_h3 => k0_hw871.2 k0_h3

def k0_off3502 (i : grid0.Coords) : Fin 3 → Nat :=
  let c0_3376 : Index := 0#32
  let c0_3377 : Index := 0#32
  let arg1 : BitVec 32 := BitVec.ofNat 32 (i 1).val
  let c2_i32_3371 : BitVec 32 := 2#32
  let v5455 : BitVec 32 := Scalar.muli arg1 c2_i32_3371
  let c1_i32_3372 : BitVec 32 := 1#32
  let v5456 : BitVec 32 := Scalar.addi v5455 c1_i32_3372
  let c256_i32_3373 : BitVec 32 := 256#32
  let v5457 : BitVec 32 := Scalar.muli v5456 c256_i32_3373
  let c102_i32_3374 : BitVec 32 := 102#32
  let v5458 : BitVec 32 := Scalar.addi v5457 c102_i32_3374
  let v5460 : Index := Scalar.indexCast v5458
  ![0, 0, v5460.toNat]
def k0_mult1743 (v5461 : BitVec 32) : BitVec 32 :=
  v5461

def k0_mult1744 (i : grid0.Coords) : BitVec 32 :=
  let arg1 : BitVec 32 := BitVec.ofNat 32 (i 1).val
  let c2_i32_3371 : BitVec 32 := 2#32
  let v5455 : BitVec 32 := Scalar.muli arg1 c2_i32_3371
  let c1_i32_3372 : BitVec 32 := 1#32
  let v5456 : BitVec 32 := Scalar.addi v5455 c1_i32_3372
  let c256_i32_3373 : BitVec 32 := 256#32
  let v5457 : BitVec 32 := Scalar.muli v5456 c256_i32_3373
  let c102_i32_3374 : BitVec 32 := 102#32
  let v5458 : BitVec 32 := Scalar.addi v5457 c102_i32_3374
  let c8_i32_3378 : BitVec 32 := 8#32
  let v5463 : BitVec 32 := Scalar.muli v5458 c8_i32_3378
  v5463
def k0_off3503 (i : grid0.Coords) : Fin 1 → Nat :=
  let c1_i32_3375 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5459 : BitVec 32 := Scalar.subi c1_i32_3375 v9
  ![v5459.toNat]
def k0_off3504 (i : grid0.Coords) : Fin 3 → Nat :=
  let c1_i32_3375 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5459 : BitVec 32 := Scalar.subi c1_i32_3375 v9
  let arg1 : BitVec 32 := BitVec.ofNat 32 (i 1).val
  let c2_i32_3371 : BitVec 32 := 2#32
  let v5455 : BitVec 32 := Scalar.muli arg1 c2_i32_3371
  let c1_i32_3372 : BitVec 32 := 1#32
  let v5456 : BitVec 32 := Scalar.addi v5455 c1_i32_3372
  let c256_i32_3373 : BitVec 32 := 256#32
  let v5457 : BitVec 32 := Scalar.muli v5456 c256_i32_3373
  let c102_i32_3374 : BitVec 32 := 102#32
  let v5458 : BitVec 32 := Scalar.addi v5457 c102_i32_3374
  let c8_i32_3378 : BitVec 32 := 8#32
  let v5463 : BitVec 32 := Scalar.muli v5458 c8_i32_3378
  let v5464 : BitVec 32 := v5463
  let c0_i32_3379 : BitVec 32 := 0#32
  ![v5459.toNat, v5464.toNat, 0]
def k0_off3505 (v5461 : BitVec 32) : Fin 2 → Nat :=
  let v5462 : BitVec 32 := v5461
  let c0_i32_3380 : BitVec 32 := 0#32
  ![v5462.toNat, 0]

def k0_chk872 (i : grid0.Coords) (v5461 : BitVec 32) : Prop :=
  (∀ (k0_h3 : k0_cond3 i = 1#1), 8 ∣ (k0_mult1743 v5461).toNat) ∧
  (∀ (k0_h3 : k0_cond3 i = 1#1), ∀ a, (k0_off3505 v5461) a + S8x128.size a ≤ S131072x128.size a)
theorem k0_mult1743_dvd : ∀ (i : grid0.Coords) (v5461 : BitVec 32) (k0_hw872 : k0_chk872 i v5461), ∀ (k0_h3 : k0_cond3 i = 1#1), 8 ∣ (k0_mult1743 v5461).toNat := fun i v5461 k0_hw872 k0_h3 => k0_hw872.1 k0_h3
theorem k0_off3505_inb : ∀ (i : grid0.Coords) (v5461 : BitVec 32) (k0_hw872 : k0_chk872 i v5461), ∀ (k0_h3 : k0_cond3 i = 1#1), ∀ a, (k0_off3505 v5461) a + S8x128.size a ≤ S131072x128.size a := fun i v5461 k0_hw872 k0_h3 => k0_hw872.2 k0_h3

def k0_off3506 (i : grid0.Coords) : Fin 3 → Nat :=
  let c0_3386 : Index := 0#32
  let c0_3387 : Index := 0#32
  let arg1 : BitVec 32 := BitVec.ofNat 32 (i 1).val
  let c2_i32_3381 : BitVec 32 := 2#32
  let v5470 : BitVec 32 := Scalar.muli arg1 c2_i32_3381
  let c1_i32_3382 : BitVec 32 := 1#32
  let v5471 : BitVec 32 := Scalar.addi v5470 c1_i32_3382
  let c256_i32_3383 : BitVec 32 := 256#32
  let v5472 : BitVec 32 := Scalar.muli v5471 c256_i32_3383
  let c103_i32_3384 : BitVec 32 := 103#32
  let v5473 : BitVec 32 := Scalar.addi v5472 c103_i32_3384
  let v5475 : Index := Scalar.indexCast v5473
  ![0, 0, v5475.toNat]
def k0_mult1745 (v5476 : BitVec 32) : BitVec 32 :=
  v5476

def k0_mult1746 (i : grid0.Coords) : BitVec 32 :=
  let arg1 : BitVec 32 := BitVec.ofNat 32 (i 1).val
  let c2_i32_3381 : BitVec 32 := 2#32
  let v5470 : BitVec 32 := Scalar.muli arg1 c2_i32_3381
  let c1_i32_3382 : BitVec 32 := 1#32
  let v5471 : BitVec 32 := Scalar.addi v5470 c1_i32_3382
  let c256_i32_3383 : BitVec 32 := 256#32
  let v5472 : BitVec 32 := Scalar.muli v5471 c256_i32_3383
  let c103_i32_3384 : BitVec 32 := 103#32
  let v5473 : BitVec 32 := Scalar.addi v5472 c103_i32_3384
  let c8_i32_3388 : BitVec 32 := 8#32
  let v5478 : BitVec 32 := Scalar.muli v5473 c8_i32_3388
  v5478
def k0_off3507 (i : grid0.Coords) : Fin 1 → Nat :=
  let c1_i32_3385 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5474 : BitVec 32 := Scalar.subi c1_i32_3385 v9
  ![v5474.toNat]
def k0_off3508 (i : grid0.Coords) : Fin 3 → Nat :=
  let c1_i32_3385 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5474 : BitVec 32 := Scalar.subi c1_i32_3385 v9
  let arg1 : BitVec 32 := BitVec.ofNat 32 (i 1).val
  let c2_i32_3381 : BitVec 32 := 2#32
  let v5470 : BitVec 32 := Scalar.muli arg1 c2_i32_3381
  let c1_i32_3382 : BitVec 32 := 1#32
  let v5471 : BitVec 32 := Scalar.addi v5470 c1_i32_3382
  let c256_i32_3383 : BitVec 32 := 256#32
  let v5472 : BitVec 32 := Scalar.muli v5471 c256_i32_3383
  let c103_i32_3384 : BitVec 32 := 103#32
  let v5473 : BitVec 32 := Scalar.addi v5472 c103_i32_3384
  let c8_i32_3388 : BitVec 32 := 8#32
  let v5478 : BitVec 32 := Scalar.muli v5473 c8_i32_3388
  let v5479 : BitVec 32 := v5478
  let c0_i32_3389 : BitVec 32 := 0#32
  ![v5474.toNat, v5479.toNat, 0]
def k0_off3509 (v5476 : BitVec 32) : Fin 2 → Nat :=
  let v5477 : BitVec 32 := v5476
  let c0_i32_3390 : BitVec 32 := 0#32
  ![v5477.toNat, 0]

def k0_chk873 (i : grid0.Coords) (v5476 : BitVec 32) : Prop :=
  (∀ (k0_h3 : k0_cond3 i = 1#1), 8 ∣ (k0_mult1745 v5476).toNat) ∧
  (∀ (k0_h3 : k0_cond3 i = 1#1), ∀ a, (k0_off3509 v5476) a + S8x128.size a ≤ S131072x128.size a)
theorem k0_mult1745_dvd : ∀ (i : grid0.Coords) (v5476 : BitVec 32) (k0_hw873 : k0_chk873 i v5476), ∀ (k0_h3 : k0_cond3 i = 1#1), 8 ∣ (k0_mult1745 v5476).toNat := fun i v5476 k0_hw873 k0_h3 => k0_hw873.1 k0_h3
theorem k0_off3509_inb : ∀ (i : grid0.Coords) (v5476 : BitVec 32) (k0_hw873 : k0_chk873 i v5476), ∀ (k0_h3 : k0_cond3 i = 1#1), ∀ a, (k0_off3509 v5476) a + S8x128.size a ≤ S131072x128.size a := fun i v5476 k0_hw873 k0_h3 => k0_hw873.2 k0_h3

def k0_off3510 (i : grid0.Coords) : Fin 3 → Nat :=
  let c0_3396 : Index := 0#32
  let c0_3397 : Index := 0#32
  let arg1 : BitVec 32 := BitVec.ofNat 32 (i 1).val
  let c2_i32_3391 : BitVec 32 := 2#32
  let v5485 : BitVec 32 := Scalar.muli arg1 c2_i32_3391
  let c1_i32_3392 : BitVec 32 := 1#32
  let v5486 : BitVec 32 := Scalar.addi v5485 c1_i32_3392
  let c256_i32_3393 : BitVec 32 := 256#32
  let v5487 : BitVec 32 := Scalar.muli v5486 c256_i32_3393
  let c104_i32_3394 : BitVec 32 := 104#32
  let v5488 : BitVec 32 := Scalar.addi v5487 c104_i32_3394
  let v5490 : Index := Scalar.indexCast v5488
  ![0, 0, v5490.toNat]
def k0_mult1747 (v5491 : BitVec 32) : BitVec 32 :=
  v5491

def k0_mult1748 (i : grid0.Coords) : BitVec 32 :=
  let arg1 : BitVec 32 := BitVec.ofNat 32 (i 1).val
  let c2_i32_3391 : BitVec 32 := 2#32
  let v5485 : BitVec 32 := Scalar.muli arg1 c2_i32_3391
  let c1_i32_3392 : BitVec 32 := 1#32
  let v5486 : BitVec 32 := Scalar.addi v5485 c1_i32_3392
  let c256_i32_3393 : BitVec 32 := 256#32
  let v5487 : BitVec 32 := Scalar.muli v5486 c256_i32_3393
  let c104_i32_3394 : BitVec 32 := 104#32
  let v5488 : BitVec 32 := Scalar.addi v5487 c104_i32_3394
  let c8_i32_3398 : BitVec 32 := 8#32
  let v5493 : BitVec 32 := Scalar.muli v5488 c8_i32_3398
  v5493
def k0_off3511 (i : grid0.Coords) : Fin 1 → Nat :=
  let c1_i32_3395 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5489 : BitVec 32 := Scalar.subi c1_i32_3395 v9
  ![v5489.toNat]
def k0_off3512 (i : grid0.Coords) : Fin 3 → Nat :=
  let c1_i32_3395 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5489 : BitVec 32 := Scalar.subi c1_i32_3395 v9
  let arg1 : BitVec 32 := BitVec.ofNat 32 (i 1).val
  let c2_i32_3391 : BitVec 32 := 2#32
  let v5485 : BitVec 32 := Scalar.muli arg1 c2_i32_3391
  let c1_i32_3392 : BitVec 32 := 1#32
  let v5486 : BitVec 32 := Scalar.addi v5485 c1_i32_3392
  let c256_i32_3393 : BitVec 32 := 256#32
  let v5487 : BitVec 32 := Scalar.muli v5486 c256_i32_3393
  let c104_i32_3394 : BitVec 32 := 104#32
  let v5488 : BitVec 32 := Scalar.addi v5487 c104_i32_3394
  let c8_i32_3398 : BitVec 32 := 8#32
  let v5493 : BitVec 32 := Scalar.muli v5488 c8_i32_3398
  let v5494 : BitVec 32 := v5493
  let c0_i32_3399 : BitVec 32 := 0#32
  ![v5489.toNat, v5494.toNat, 0]
def k0_off3513 (v5491 : BitVec 32) : Fin 2 → Nat :=
  let v5492 : BitVec 32 := v5491
  let c0_i32_3400 : BitVec 32 := 0#32
  ![v5492.toNat, 0]

def k0_chk874 (i : grid0.Coords) (v5491 : BitVec 32) : Prop :=
  (∀ (k0_h3 : k0_cond3 i = 1#1), 8 ∣ (k0_mult1747 v5491).toNat) ∧
  (∀ (k0_h3 : k0_cond3 i = 1#1), ∀ a, (k0_off3513 v5491) a + S8x128.size a ≤ S131072x128.size a)
theorem k0_mult1747_dvd : ∀ (i : grid0.Coords) (v5491 : BitVec 32) (k0_hw874 : k0_chk874 i v5491), ∀ (k0_h3 : k0_cond3 i = 1#1), 8 ∣ (k0_mult1747 v5491).toNat := fun i v5491 k0_hw874 k0_h3 => k0_hw874.1 k0_h3
theorem k0_off3513_inb : ∀ (i : grid0.Coords) (v5491 : BitVec 32) (k0_hw874 : k0_chk874 i v5491), ∀ (k0_h3 : k0_cond3 i = 1#1), ∀ a, (k0_off3513 v5491) a + S8x128.size a ≤ S131072x128.size a := fun i v5491 k0_hw874 k0_h3 => k0_hw874.2 k0_h3

def k0_off3514 (i : grid0.Coords) : Fin 3 → Nat :=
  let c0_3406 : Index := 0#32
  let c0_3407 : Index := 0#32
  let arg1 : BitVec 32 := BitVec.ofNat 32 (i 1).val
  let c2_i32_3401 : BitVec 32 := 2#32
  let v5500 : BitVec 32 := Scalar.muli arg1 c2_i32_3401
  let c1_i32_3402 : BitVec 32 := 1#32
  let v5501 : BitVec 32 := Scalar.addi v5500 c1_i32_3402
  let c256_i32_3403 : BitVec 32 := 256#32
  let v5502 : BitVec 32 := Scalar.muli v5501 c256_i32_3403
  let c105_i32_3404 : BitVec 32 := 105#32
  let v5503 : BitVec 32 := Scalar.addi v5502 c105_i32_3404
  let v5505 : Index := Scalar.indexCast v5503
  ![0, 0, v5505.toNat]
def k0_mult1749 (v5506 : BitVec 32) : BitVec 32 :=
  v5506

def k0_mult1750 (i : grid0.Coords) : BitVec 32 :=
  let arg1 : BitVec 32 := BitVec.ofNat 32 (i 1).val
  let c2_i32_3401 : BitVec 32 := 2#32
  let v5500 : BitVec 32 := Scalar.muli arg1 c2_i32_3401
  let c1_i32_3402 : BitVec 32 := 1#32
  let v5501 : BitVec 32 := Scalar.addi v5500 c1_i32_3402
  let c256_i32_3403 : BitVec 32 := 256#32
  let v5502 : BitVec 32 := Scalar.muli v5501 c256_i32_3403
  let c105_i32_3404 : BitVec 32 := 105#32
  let v5503 : BitVec 32 := Scalar.addi v5502 c105_i32_3404
  let c8_i32_3408 : BitVec 32 := 8#32
  let v5508 : BitVec 32 := Scalar.muli v5503 c8_i32_3408
  v5508
def k0_off3515 (i : grid0.Coords) : Fin 1 → Nat :=
  let c1_i32_3405 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5504 : BitVec 32 := Scalar.subi c1_i32_3405 v9
  ![v5504.toNat]
def k0_off3516 (i : grid0.Coords) : Fin 3 → Nat :=
  let c1_i32_3405 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5504 : BitVec 32 := Scalar.subi c1_i32_3405 v9
  let arg1 : BitVec 32 := BitVec.ofNat 32 (i 1).val
  let c2_i32_3401 : BitVec 32 := 2#32
  let v5500 : BitVec 32 := Scalar.muli arg1 c2_i32_3401
  let c1_i32_3402 : BitVec 32 := 1#32
  let v5501 : BitVec 32 := Scalar.addi v5500 c1_i32_3402
  let c256_i32_3403 : BitVec 32 := 256#32
  let v5502 : BitVec 32 := Scalar.muli v5501 c256_i32_3403
  let c105_i32_3404 : BitVec 32 := 105#32
  let v5503 : BitVec 32 := Scalar.addi v5502 c105_i32_3404
  let c8_i32_3408 : BitVec 32 := 8#32
  let v5508 : BitVec 32 := Scalar.muli v5503 c8_i32_3408
  let v5509 : BitVec 32 := v5508
  let c0_i32_3409 : BitVec 32 := 0#32
  ![v5504.toNat, v5509.toNat, 0]
def k0_off3517 (v5506 : BitVec 32) : Fin 2 → Nat :=
  let v5507 : BitVec 32 := v5506
  let c0_i32_3410 : BitVec 32 := 0#32
  ![v5507.toNat, 0]

def k0_chk875 (i : grid0.Coords) (v5506 : BitVec 32) : Prop :=
  (∀ (k0_h3 : k0_cond3 i = 1#1), 8 ∣ (k0_mult1749 v5506).toNat) ∧
  (∀ (k0_h3 : k0_cond3 i = 1#1), ∀ a, (k0_off3517 v5506) a + S8x128.size a ≤ S131072x128.size a)
theorem k0_mult1749_dvd : ∀ (i : grid0.Coords) (v5506 : BitVec 32) (k0_hw875 : k0_chk875 i v5506), ∀ (k0_h3 : k0_cond3 i = 1#1), 8 ∣ (k0_mult1749 v5506).toNat := fun i v5506 k0_hw875 k0_h3 => k0_hw875.1 k0_h3
theorem k0_off3517_inb : ∀ (i : grid0.Coords) (v5506 : BitVec 32) (k0_hw875 : k0_chk875 i v5506), ∀ (k0_h3 : k0_cond3 i = 1#1), ∀ a, (k0_off3517 v5506) a + S8x128.size a ≤ S131072x128.size a := fun i v5506 k0_hw875 k0_h3 => k0_hw875.2 k0_h3

def k0_off3518 (i : grid0.Coords) : Fin 3 → Nat :=
  let c0_3416 : Index := 0#32
  let c0_3417 : Index := 0#32
  let arg1 : BitVec 32 := BitVec.ofNat 32 (i 1).val
  let c2_i32_3411 : BitVec 32 := 2#32
  let v5515 : BitVec 32 := Scalar.muli arg1 c2_i32_3411
  let c1_i32_3412 : BitVec 32 := 1#32
  let v5516 : BitVec 32 := Scalar.addi v5515 c1_i32_3412
  let c256_i32_3413 : BitVec 32 := 256#32
  let v5517 : BitVec 32 := Scalar.muli v5516 c256_i32_3413
  let c106_i32_3414 : BitVec 32 := 106#32
  let v5518 : BitVec 32 := Scalar.addi v5517 c106_i32_3414
  let v5520 : Index := Scalar.indexCast v5518
  ![0, 0, v5520.toNat]
def k0_mult1751 (v5521 : BitVec 32) : BitVec 32 :=
  v5521

def k0_mult1752 (i : grid0.Coords) : BitVec 32 :=
  let arg1 : BitVec 32 := BitVec.ofNat 32 (i 1).val
  let c2_i32_3411 : BitVec 32 := 2#32
  let v5515 : BitVec 32 := Scalar.muli arg1 c2_i32_3411
  let c1_i32_3412 : BitVec 32 := 1#32
  let v5516 : BitVec 32 := Scalar.addi v5515 c1_i32_3412
  let c256_i32_3413 : BitVec 32 := 256#32
  let v5517 : BitVec 32 := Scalar.muli v5516 c256_i32_3413
  let c106_i32_3414 : BitVec 32 := 106#32
  let v5518 : BitVec 32 := Scalar.addi v5517 c106_i32_3414
  let c8_i32_3418 : BitVec 32 := 8#32
  let v5523 : BitVec 32 := Scalar.muli v5518 c8_i32_3418
  v5523
def k0_off3519 (i : grid0.Coords) : Fin 1 → Nat :=
  let c1_i32_3415 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5519 : BitVec 32 := Scalar.subi c1_i32_3415 v9
  ![v5519.toNat]
def k0_off3520 (i : grid0.Coords) : Fin 3 → Nat :=
  let c1_i32_3415 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5519 : BitVec 32 := Scalar.subi c1_i32_3415 v9
  let arg1 : BitVec 32 := BitVec.ofNat 32 (i 1).val
  let c2_i32_3411 : BitVec 32 := 2#32
  let v5515 : BitVec 32 := Scalar.muli arg1 c2_i32_3411
  let c1_i32_3412 : BitVec 32 := 1#32
  let v5516 : BitVec 32 := Scalar.addi v5515 c1_i32_3412
  let c256_i32_3413 : BitVec 32 := 256#32
  let v5517 : BitVec 32 := Scalar.muli v5516 c256_i32_3413
  let c106_i32_3414 : BitVec 32 := 106#32
  let v5518 : BitVec 32 := Scalar.addi v5517 c106_i32_3414
  let c8_i32_3418 : BitVec 32 := 8#32
  let v5523 : BitVec 32 := Scalar.muli v5518 c8_i32_3418
  let v5524 : BitVec 32 := v5523
  let c0_i32_3419 : BitVec 32 := 0#32
  ![v5519.toNat, v5524.toNat, 0]
def k0_off3521 (v5521 : BitVec 32) : Fin 2 → Nat :=
  let v5522 : BitVec 32 := v5521
  let c0_i32_3420 : BitVec 32 := 0#32
  ![v5522.toNat, 0]

def k0_chk876 (i : grid0.Coords) (v5521 : BitVec 32) : Prop :=
  (∀ (k0_h3 : k0_cond3 i = 1#1), 8 ∣ (k0_mult1751 v5521).toNat) ∧
  (∀ (k0_h3 : k0_cond3 i = 1#1), ∀ a, (k0_off3521 v5521) a + S8x128.size a ≤ S131072x128.size a)
theorem k0_mult1751_dvd : ∀ (i : grid0.Coords) (v5521 : BitVec 32) (k0_hw876 : k0_chk876 i v5521), ∀ (k0_h3 : k0_cond3 i = 1#1), 8 ∣ (k0_mult1751 v5521).toNat := fun i v5521 k0_hw876 k0_h3 => k0_hw876.1 k0_h3
theorem k0_off3521_inb : ∀ (i : grid0.Coords) (v5521 : BitVec 32) (k0_hw876 : k0_chk876 i v5521), ∀ (k0_h3 : k0_cond3 i = 1#1), ∀ a, (k0_off3521 v5521) a + S8x128.size a ≤ S131072x128.size a := fun i v5521 k0_hw876 k0_h3 => k0_hw876.2 k0_h3

def k0_off3522 (i : grid0.Coords) : Fin 3 → Nat :=
  let c0_3426 : Index := 0#32
  let c0_3427 : Index := 0#32
  let arg1 : BitVec 32 := BitVec.ofNat 32 (i 1).val
  let c2_i32_3421 : BitVec 32 := 2#32
  let v5530 : BitVec 32 := Scalar.muli arg1 c2_i32_3421
  let c1_i32_3422 : BitVec 32 := 1#32
  let v5531 : BitVec 32 := Scalar.addi v5530 c1_i32_3422
  let c256_i32_3423 : BitVec 32 := 256#32
  let v5532 : BitVec 32 := Scalar.muli v5531 c256_i32_3423
  let c107_i32_3424 : BitVec 32 := 107#32
  let v5533 : BitVec 32 := Scalar.addi v5532 c107_i32_3424
  let v5535 : Index := Scalar.indexCast v5533
  ![0, 0, v5535.toNat]
def k0_mult1753 (v5536 : BitVec 32) : BitVec 32 :=
  v5536

def k0_mult1754 (i : grid0.Coords) : BitVec 32 :=
  let arg1 : BitVec 32 := BitVec.ofNat 32 (i 1).val
  let c2_i32_3421 : BitVec 32 := 2#32
  let v5530 : BitVec 32 := Scalar.muli arg1 c2_i32_3421
  let c1_i32_3422 : BitVec 32 := 1#32
  let v5531 : BitVec 32 := Scalar.addi v5530 c1_i32_3422
  let c256_i32_3423 : BitVec 32 := 256#32
  let v5532 : BitVec 32 := Scalar.muli v5531 c256_i32_3423
  let c107_i32_3424 : BitVec 32 := 107#32
  let v5533 : BitVec 32 := Scalar.addi v5532 c107_i32_3424
  let c8_i32_3428 : BitVec 32 := 8#32
  let v5538 : BitVec 32 := Scalar.muli v5533 c8_i32_3428
  v5538
def k0_off3523 (i : grid0.Coords) : Fin 1 → Nat :=
  let c1_i32_3425 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5534 : BitVec 32 := Scalar.subi c1_i32_3425 v9
  ![v5534.toNat]
def k0_off3524 (i : grid0.Coords) : Fin 3 → Nat :=
  let c1_i32_3425 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5534 : BitVec 32 := Scalar.subi c1_i32_3425 v9
  let arg1 : BitVec 32 := BitVec.ofNat 32 (i 1).val
  let c2_i32_3421 : BitVec 32 := 2#32
  let v5530 : BitVec 32 := Scalar.muli arg1 c2_i32_3421
  let c1_i32_3422 : BitVec 32 := 1#32
  let v5531 : BitVec 32 := Scalar.addi v5530 c1_i32_3422
  let c256_i32_3423 : BitVec 32 := 256#32
  let v5532 : BitVec 32 := Scalar.muli v5531 c256_i32_3423
  let c107_i32_3424 : BitVec 32 := 107#32
  let v5533 : BitVec 32 := Scalar.addi v5532 c107_i32_3424
  let c8_i32_3428 : BitVec 32 := 8#32
  let v5538 : BitVec 32 := Scalar.muli v5533 c8_i32_3428
  let v5539 : BitVec 32 := v5538
  let c0_i32_3429 : BitVec 32 := 0#32
  ![v5534.toNat, v5539.toNat, 0]
def k0_off3525 (v5536 : BitVec 32) : Fin 2 → Nat :=
  let v5537 : BitVec 32 := v5536
  let c0_i32_3430 : BitVec 32 := 0#32
  ![v5537.toNat, 0]

def k0_chk877 (i : grid0.Coords) (v5536 : BitVec 32) : Prop :=
  (∀ (k0_h3 : k0_cond3 i = 1#1), 8 ∣ (k0_mult1753 v5536).toNat) ∧
  (∀ (k0_h3 : k0_cond3 i = 1#1), ∀ a, (k0_off3525 v5536) a + S8x128.size a ≤ S131072x128.size a)
theorem k0_mult1753_dvd : ∀ (i : grid0.Coords) (v5536 : BitVec 32) (k0_hw877 : k0_chk877 i v5536), ∀ (k0_h3 : k0_cond3 i = 1#1), 8 ∣ (k0_mult1753 v5536).toNat := fun i v5536 k0_hw877 k0_h3 => k0_hw877.1 k0_h3
theorem k0_off3525_inb : ∀ (i : grid0.Coords) (v5536 : BitVec 32) (k0_hw877 : k0_chk877 i v5536), ∀ (k0_h3 : k0_cond3 i = 1#1), ∀ a, (k0_off3525 v5536) a + S8x128.size a ≤ S131072x128.size a := fun i v5536 k0_hw877 k0_h3 => k0_hw877.2 k0_h3

def k0_off3526 (i : grid0.Coords) : Fin 3 → Nat :=
  let c0_3436 : Index := 0#32
  let c0_3437 : Index := 0#32
  let arg1 : BitVec 32 := BitVec.ofNat 32 (i 1).val
  let c2_i32_3431 : BitVec 32 := 2#32
  let v5545 : BitVec 32 := Scalar.muli arg1 c2_i32_3431
  let c1_i32_3432 : BitVec 32 := 1#32
  let v5546 : BitVec 32 := Scalar.addi v5545 c1_i32_3432
  let c256_i32_3433 : BitVec 32 := 256#32
  let v5547 : BitVec 32 := Scalar.muli v5546 c256_i32_3433
  let c108_i32_3434 : BitVec 32 := 108#32
  let v5548 : BitVec 32 := Scalar.addi v5547 c108_i32_3434
  let v5550 : Index := Scalar.indexCast v5548
  ![0, 0, v5550.toNat]
def k0_mult1755 (v5551 : BitVec 32) : BitVec 32 :=
  v5551

def k0_mult1756 (i : grid0.Coords) : BitVec 32 :=
  let arg1 : BitVec 32 := BitVec.ofNat 32 (i 1).val
  let c2_i32_3431 : BitVec 32 := 2#32
  let v5545 : BitVec 32 := Scalar.muli arg1 c2_i32_3431
  let c1_i32_3432 : BitVec 32 := 1#32
  let v5546 : BitVec 32 := Scalar.addi v5545 c1_i32_3432
  let c256_i32_3433 : BitVec 32 := 256#32
  let v5547 : BitVec 32 := Scalar.muli v5546 c256_i32_3433
  let c108_i32_3434 : BitVec 32 := 108#32
  let v5548 : BitVec 32 := Scalar.addi v5547 c108_i32_3434
  let c8_i32_3438 : BitVec 32 := 8#32
  let v5553 : BitVec 32 := Scalar.muli v5548 c8_i32_3438
  v5553
def k0_off3527 (i : grid0.Coords) : Fin 1 → Nat :=
  let c1_i32_3435 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5549 : BitVec 32 := Scalar.subi c1_i32_3435 v9
  ![v5549.toNat]
def k0_off3528 (i : grid0.Coords) : Fin 3 → Nat :=
  let c1_i32_3435 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5549 : BitVec 32 := Scalar.subi c1_i32_3435 v9
  let arg1 : BitVec 32 := BitVec.ofNat 32 (i 1).val
  let c2_i32_3431 : BitVec 32 := 2#32
  let v5545 : BitVec 32 := Scalar.muli arg1 c2_i32_3431
  let c1_i32_3432 : BitVec 32 := 1#32
  let v5546 : BitVec 32 := Scalar.addi v5545 c1_i32_3432
  let c256_i32_3433 : BitVec 32 := 256#32
  let v5547 : BitVec 32 := Scalar.muli v5546 c256_i32_3433
  let c108_i32_3434 : BitVec 32 := 108#32
  let v5548 : BitVec 32 := Scalar.addi v5547 c108_i32_3434
  let c8_i32_3438 : BitVec 32 := 8#32
  let v5553 : BitVec 32 := Scalar.muli v5548 c8_i32_3438
  let v5554 : BitVec 32 := v5553
  let c0_i32_3439 : BitVec 32 := 0#32
  ![v5549.toNat, v5554.toNat, 0]
def k0_off3529 (v5551 : BitVec 32) : Fin 2 → Nat :=
  let v5552 : BitVec 32 := v5551
  let c0_i32_3440 : BitVec 32 := 0#32
  ![v5552.toNat, 0]

def k0_chk878 (i : grid0.Coords) (v5551 : BitVec 32) : Prop :=
  (∀ (k0_h3 : k0_cond3 i = 1#1), 8 ∣ (k0_mult1755 v5551).toNat) ∧
  (∀ (k0_h3 : k0_cond3 i = 1#1), ∀ a, (k0_off3529 v5551) a + S8x128.size a ≤ S131072x128.size a)
theorem k0_mult1755_dvd : ∀ (i : grid0.Coords) (v5551 : BitVec 32) (k0_hw878 : k0_chk878 i v5551), ∀ (k0_h3 : k0_cond3 i = 1#1), 8 ∣ (k0_mult1755 v5551).toNat := fun i v5551 k0_hw878 k0_h3 => k0_hw878.1 k0_h3
theorem k0_off3529_inb : ∀ (i : grid0.Coords) (v5551 : BitVec 32) (k0_hw878 : k0_chk878 i v5551), ∀ (k0_h3 : k0_cond3 i = 1#1), ∀ a, (k0_off3529 v5551) a + S8x128.size a ≤ S131072x128.size a := fun i v5551 k0_hw878 k0_h3 => k0_hw878.2 k0_h3

def k0_off3530 (i : grid0.Coords) : Fin 3 → Nat :=
  let c0_3446 : Index := 0#32
  let c0_3447 : Index := 0#32
  let arg1 : BitVec 32 := BitVec.ofNat 32 (i 1).val
  let c2_i32_3441 : BitVec 32 := 2#32
  let v5560 : BitVec 32 := Scalar.muli arg1 c2_i32_3441
  let c1_i32_3442 : BitVec 32 := 1#32
  let v5561 : BitVec 32 := Scalar.addi v5560 c1_i32_3442
  let c256_i32_3443 : BitVec 32 := 256#32
  let v5562 : BitVec 32 := Scalar.muli v5561 c256_i32_3443
  let c109_i32_3444 : BitVec 32 := 109#32
  let v5563 : BitVec 32 := Scalar.addi v5562 c109_i32_3444
  let v5565 : Index := Scalar.indexCast v5563
  ![0, 0, v5565.toNat]
def k0_mult1757 (v5566 : BitVec 32) : BitVec 32 :=
  v5566

def k0_mult1758 (i : grid0.Coords) : BitVec 32 :=
  let arg1 : BitVec 32 := BitVec.ofNat 32 (i 1).val
  let c2_i32_3441 : BitVec 32 := 2#32
  let v5560 : BitVec 32 := Scalar.muli arg1 c2_i32_3441
  let c1_i32_3442 : BitVec 32 := 1#32
  let v5561 : BitVec 32 := Scalar.addi v5560 c1_i32_3442
  let c256_i32_3443 : BitVec 32 := 256#32
  let v5562 : BitVec 32 := Scalar.muli v5561 c256_i32_3443
  let c109_i32_3444 : BitVec 32 := 109#32
  let v5563 : BitVec 32 := Scalar.addi v5562 c109_i32_3444
  let c8_i32_3448 : BitVec 32 := 8#32
  let v5568 : BitVec 32 := Scalar.muli v5563 c8_i32_3448
  v5568
def k0_off3531 (i : grid0.Coords) : Fin 1 → Nat :=
  let c1_i32_3445 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5564 : BitVec 32 := Scalar.subi c1_i32_3445 v9
  ![v5564.toNat]
def k0_off3532 (i : grid0.Coords) : Fin 3 → Nat :=
  let c1_i32_3445 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5564 : BitVec 32 := Scalar.subi c1_i32_3445 v9
  let arg1 : BitVec 32 := BitVec.ofNat 32 (i 1).val
  let c2_i32_3441 : BitVec 32 := 2#32
  let v5560 : BitVec 32 := Scalar.muli arg1 c2_i32_3441
  let c1_i32_3442 : BitVec 32 := 1#32
  let v5561 : BitVec 32 := Scalar.addi v5560 c1_i32_3442
  let c256_i32_3443 : BitVec 32 := 256#32
  let v5562 : BitVec 32 := Scalar.muli v5561 c256_i32_3443
  let c109_i32_3444 : BitVec 32 := 109#32
  let v5563 : BitVec 32 := Scalar.addi v5562 c109_i32_3444
  let c8_i32_3448 : BitVec 32 := 8#32
  let v5568 : BitVec 32 := Scalar.muli v5563 c8_i32_3448
  let v5569 : BitVec 32 := v5568
  let c0_i32_3449 : BitVec 32 := 0#32
  ![v5564.toNat, v5569.toNat, 0]
def k0_off3533 (v5566 : BitVec 32) : Fin 2 → Nat :=
  let v5567 : BitVec 32 := v5566
  let c0_i32_3450 : BitVec 32 := 0#32
  ![v5567.toNat, 0]

def k0_chk879 (i : grid0.Coords) (v5566 : BitVec 32) : Prop :=
  (∀ (k0_h3 : k0_cond3 i = 1#1), 8 ∣ (k0_mult1757 v5566).toNat) ∧
  (∀ (k0_h3 : k0_cond3 i = 1#1), ∀ a, (k0_off3533 v5566) a + S8x128.size a ≤ S131072x128.size a)
theorem k0_mult1757_dvd : ∀ (i : grid0.Coords) (v5566 : BitVec 32) (k0_hw879 : k0_chk879 i v5566), ∀ (k0_h3 : k0_cond3 i = 1#1), 8 ∣ (k0_mult1757 v5566).toNat := fun i v5566 k0_hw879 k0_h3 => k0_hw879.1 k0_h3
theorem k0_off3533_inb : ∀ (i : grid0.Coords) (v5566 : BitVec 32) (k0_hw879 : k0_chk879 i v5566), ∀ (k0_h3 : k0_cond3 i = 1#1), ∀ a, (k0_off3533 v5566) a + S8x128.size a ≤ S131072x128.size a := fun i v5566 k0_hw879 k0_h3 => k0_hw879.2 k0_h3

def k0_off3534 (i : grid0.Coords) : Fin 3 → Nat :=
  let c0_3456 : Index := 0#32
  let c0_3457 : Index := 0#32
  let arg1 : BitVec 32 := BitVec.ofNat 32 (i 1).val
  let c2_i32_3451 : BitVec 32 := 2#32
  let v5575 : BitVec 32 := Scalar.muli arg1 c2_i32_3451
  let c1_i32_3452 : BitVec 32 := 1#32
  let v5576 : BitVec 32 := Scalar.addi v5575 c1_i32_3452
  let c256_i32_3453 : BitVec 32 := 256#32
  let v5577 : BitVec 32 := Scalar.muli v5576 c256_i32_3453
  let c110_i32_3454 : BitVec 32 := 110#32
  let v5578 : BitVec 32 := Scalar.addi v5577 c110_i32_3454
  let v5580 : Index := Scalar.indexCast v5578
  ![0, 0, v5580.toNat]
def k0_mult1759 (v5581 : BitVec 32) : BitVec 32 :=
  v5581

def k0_mult1760 (i : grid0.Coords) : BitVec 32 :=
  let arg1 : BitVec 32 := BitVec.ofNat 32 (i 1).val
  let c2_i32_3451 : BitVec 32 := 2#32
  let v5575 : BitVec 32 := Scalar.muli arg1 c2_i32_3451
  let c1_i32_3452 : BitVec 32 := 1#32
  let v5576 : BitVec 32 := Scalar.addi v5575 c1_i32_3452
  let c256_i32_3453 : BitVec 32 := 256#32
  let v5577 : BitVec 32 := Scalar.muli v5576 c256_i32_3453
  let c110_i32_3454 : BitVec 32 := 110#32
  let v5578 : BitVec 32 := Scalar.addi v5577 c110_i32_3454
  let c8_i32_3458 : BitVec 32 := 8#32
  let v5583 : BitVec 32 := Scalar.muli v5578 c8_i32_3458
  v5583
def k0_off3535 (i : grid0.Coords) : Fin 1 → Nat :=
  let c1_i32_3455 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5579 : BitVec 32 := Scalar.subi c1_i32_3455 v9
  ![v5579.toNat]
def k0_off3536 (i : grid0.Coords) : Fin 3 → Nat :=
  let c1_i32_3455 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5579 : BitVec 32 := Scalar.subi c1_i32_3455 v9
  let arg1 : BitVec 32 := BitVec.ofNat 32 (i 1).val
  let c2_i32_3451 : BitVec 32 := 2#32
  let v5575 : BitVec 32 := Scalar.muli arg1 c2_i32_3451
  let c1_i32_3452 : BitVec 32 := 1#32
  let v5576 : BitVec 32 := Scalar.addi v5575 c1_i32_3452
  let c256_i32_3453 : BitVec 32 := 256#32
  let v5577 : BitVec 32 := Scalar.muli v5576 c256_i32_3453
  let c110_i32_3454 : BitVec 32 := 110#32
  let v5578 : BitVec 32 := Scalar.addi v5577 c110_i32_3454
  let c8_i32_3458 : BitVec 32 := 8#32
  let v5583 : BitVec 32 := Scalar.muli v5578 c8_i32_3458
  let v5584 : BitVec 32 := v5583
  let c0_i32_3459 : BitVec 32 := 0#32
  ![v5579.toNat, v5584.toNat, 0]
def k0_off3537 (v5581 : BitVec 32) : Fin 2 → Nat :=
  let v5582 : BitVec 32 := v5581
  let c0_i32_3460 : BitVec 32 := 0#32
  ![v5582.toNat, 0]

def k0_chk880 (i : grid0.Coords) (v5581 : BitVec 32) : Prop :=
  (∀ (k0_h3 : k0_cond3 i = 1#1), 8 ∣ (k0_mult1759 v5581).toNat) ∧
  (∀ (k0_h3 : k0_cond3 i = 1#1), ∀ a, (k0_off3537 v5581) a + S8x128.size a ≤ S131072x128.size a)
theorem k0_mult1759_dvd : ∀ (i : grid0.Coords) (v5581 : BitVec 32) (k0_hw880 : k0_chk880 i v5581), ∀ (k0_h3 : k0_cond3 i = 1#1), 8 ∣ (k0_mult1759 v5581).toNat := fun i v5581 k0_hw880 k0_h3 => k0_hw880.1 k0_h3
theorem k0_off3537_inb : ∀ (i : grid0.Coords) (v5581 : BitVec 32) (k0_hw880 : k0_chk880 i v5581), ∀ (k0_h3 : k0_cond3 i = 1#1), ∀ a, (k0_off3537 v5581) a + S8x128.size a ≤ S131072x128.size a := fun i v5581 k0_hw880 k0_h3 => k0_hw880.2 k0_h3

def k0_off3538 (i : grid0.Coords) : Fin 3 → Nat :=
  let c0_3466 : Index := 0#32
  let c0_3467 : Index := 0#32
  let arg1 : BitVec 32 := BitVec.ofNat 32 (i 1).val
  let c2_i32_3461 : BitVec 32 := 2#32
  let v5590 : BitVec 32 := Scalar.muli arg1 c2_i32_3461
  let c1_i32_3462 : BitVec 32 := 1#32
  let v5591 : BitVec 32 := Scalar.addi v5590 c1_i32_3462
  let c256_i32_3463 : BitVec 32 := 256#32
  let v5592 : BitVec 32 := Scalar.muli v5591 c256_i32_3463
  let c111_i32_3464 : BitVec 32 := 111#32
  let v5593 : BitVec 32 := Scalar.addi v5592 c111_i32_3464
  let v5595 : Index := Scalar.indexCast v5593
  ![0, 0, v5595.toNat]
def k0_mult1761 (v5596 : BitVec 32) : BitVec 32 :=
  v5596

def k0_mult1762 (i : grid0.Coords) : BitVec 32 :=
  let arg1 : BitVec 32 := BitVec.ofNat 32 (i 1).val
  let c2_i32_3461 : BitVec 32 := 2#32
  let v5590 : BitVec 32 := Scalar.muli arg1 c2_i32_3461
  let c1_i32_3462 : BitVec 32 := 1#32
  let v5591 : BitVec 32 := Scalar.addi v5590 c1_i32_3462
  let c256_i32_3463 : BitVec 32 := 256#32
  let v5592 : BitVec 32 := Scalar.muli v5591 c256_i32_3463
  let c111_i32_3464 : BitVec 32 := 111#32
  let v5593 : BitVec 32 := Scalar.addi v5592 c111_i32_3464
  let c8_i32_3468 : BitVec 32 := 8#32
  let v5598 : BitVec 32 := Scalar.muli v5593 c8_i32_3468
  v5598
def k0_off3539 (i : grid0.Coords) : Fin 1 → Nat :=
  let c1_i32_3465 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5594 : BitVec 32 := Scalar.subi c1_i32_3465 v9
  ![v5594.toNat]
def k0_off3540 (i : grid0.Coords) : Fin 3 → Nat :=
  let c1_i32_3465 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5594 : BitVec 32 := Scalar.subi c1_i32_3465 v9
  let arg1 : BitVec 32 := BitVec.ofNat 32 (i 1).val
  let c2_i32_3461 : BitVec 32 := 2#32
  let v5590 : BitVec 32 := Scalar.muli arg1 c2_i32_3461
  let c1_i32_3462 : BitVec 32 := 1#32
  let v5591 : BitVec 32 := Scalar.addi v5590 c1_i32_3462
  let c256_i32_3463 : BitVec 32 := 256#32
  let v5592 : BitVec 32 := Scalar.muli v5591 c256_i32_3463
  let c111_i32_3464 : BitVec 32 := 111#32
  let v5593 : BitVec 32 := Scalar.addi v5592 c111_i32_3464
  let c8_i32_3468 : BitVec 32 := 8#32
  let v5598 : BitVec 32 := Scalar.muli v5593 c8_i32_3468
  let v5599 : BitVec 32 := v5598
  let c0_i32_3469 : BitVec 32 := 0#32
  ![v5594.toNat, v5599.toNat, 0]
def k0_off3541 (v5596 : BitVec 32) : Fin 2 → Nat :=
  let v5597 : BitVec 32 := v5596
  let c0_i32_3470 : BitVec 32 := 0#32
  ![v5597.toNat, 0]

def k0_chk881 (i : grid0.Coords) (v5596 : BitVec 32) : Prop :=
  (∀ (k0_h3 : k0_cond3 i = 1#1), 8 ∣ (k0_mult1761 v5596).toNat) ∧
  (∀ (k0_h3 : k0_cond3 i = 1#1), ∀ a, (k0_off3541 v5596) a + S8x128.size a ≤ S131072x128.size a)
theorem k0_mult1761_dvd : ∀ (i : grid0.Coords) (v5596 : BitVec 32) (k0_hw881 : k0_chk881 i v5596), ∀ (k0_h3 : k0_cond3 i = 1#1), 8 ∣ (k0_mult1761 v5596).toNat := fun i v5596 k0_hw881 k0_h3 => k0_hw881.1 k0_h3
theorem k0_off3541_inb : ∀ (i : grid0.Coords) (v5596 : BitVec 32) (k0_hw881 : k0_chk881 i v5596), ∀ (k0_h3 : k0_cond3 i = 1#1), ∀ a, (k0_off3541 v5596) a + S8x128.size a ≤ S131072x128.size a := fun i v5596 k0_hw881 k0_h3 => k0_hw881.2 k0_h3

def k0_off3542 (i : grid0.Coords) : Fin 3 → Nat :=
  let c0_3476 : Index := 0#32
  let c0_3477 : Index := 0#32
  let arg1 : BitVec 32 := BitVec.ofNat 32 (i 1).val
  let c2_i32_3471 : BitVec 32 := 2#32
  let v5605 : BitVec 32 := Scalar.muli arg1 c2_i32_3471
  let c1_i32_3472 : BitVec 32 := 1#32
  let v5606 : BitVec 32 := Scalar.addi v5605 c1_i32_3472
  let c256_i32_3473 : BitVec 32 := 256#32
  let v5607 : BitVec 32 := Scalar.muli v5606 c256_i32_3473
  let c112_i32_3474 : BitVec 32 := 112#32
  let v5608 : BitVec 32 := Scalar.addi v5607 c112_i32_3474
  let v5610 : Index := Scalar.indexCast v5608
  ![0, 0, v5610.toNat]
def k0_mult1763 (v5611 : BitVec 32) : BitVec 32 :=
  v5611

def k0_mult1764 (i : grid0.Coords) : BitVec 32 :=
  let arg1 : BitVec 32 := BitVec.ofNat 32 (i 1).val
  let c2_i32_3471 : BitVec 32 := 2#32
  let v5605 : BitVec 32 := Scalar.muli arg1 c2_i32_3471
  let c1_i32_3472 : BitVec 32 := 1#32
  let v5606 : BitVec 32 := Scalar.addi v5605 c1_i32_3472
  let c256_i32_3473 : BitVec 32 := 256#32
  let v5607 : BitVec 32 := Scalar.muli v5606 c256_i32_3473
  let c112_i32_3474 : BitVec 32 := 112#32
  let v5608 : BitVec 32 := Scalar.addi v5607 c112_i32_3474
  let c8_i32_3478 : BitVec 32 := 8#32
  let v5613 : BitVec 32 := Scalar.muli v5608 c8_i32_3478
  v5613
def k0_off3543 (i : grid0.Coords) : Fin 1 → Nat :=
  let c1_i32_3475 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5609 : BitVec 32 := Scalar.subi c1_i32_3475 v9
  ![v5609.toNat]
def k0_off3544 (i : grid0.Coords) : Fin 3 → Nat :=
  let c1_i32_3475 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5609 : BitVec 32 := Scalar.subi c1_i32_3475 v9
  let arg1 : BitVec 32 := BitVec.ofNat 32 (i 1).val
  let c2_i32_3471 : BitVec 32 := 2#32
  let v5605 : BitVec 32 := Scalar.muli arg1 c2_i32_3471
  let c1_i32_3472 : BitVec 32 := 1#32
  let v5606 : BitVec 32 := Scalar.addi v5605 c1_i32_3472
  let c256_i32_3473 : BitVec 32 := 256#32
  let v5607 : BitVec 32 := Scalar.muli v5606 c256_i32_3473
  let c112_i32_3474 : BitVec 32 := 112#32
  let v5608 : BitVec 32 := Scalar.addi v5607 c112_i32_3474
  let c8_i32_3478 : BitVec 32 := 8#32
  let v5613 : BitVec 32 := Scalar.muli v5608 c8_i32_3478
  let v5614 : BitVec 32 := v5613
  let c0_i32_3479 : BitVec 32 := 0#32
  ![v5609.toNat, v5614.toNat, 0]
def k0_off3545 (v5611 : BitVec 32) : Fin 2 → Nat :=
  let v5612 : BitVec 32 := v5611
  let c0_i32_3480 : BitVec 32 := 0#32
  ![v5612.toNat, 0]

def k0_chk882 (i : grid0.Coords) (v5611 : BitVec 32) : Prop :=
  (∀ (k0_h3 : k0_cond3 i = 1#1), 8 ∣ (k0_mult1763 v5611).toNat) ∧
  (∀ (k0_h3 : k0_cond3 i = 1#1), ∀ a, (k0_off3545 v5611) a + S8x128.size a ≤ S131072x128.size a)
theorem k0_mult1763_dvd : ∀ (i : grid0.Coords) (v5611 : BitVec 32) (k0_hw882 : k0_chk882 i v5611), ∀ (k0_h3 : k0_cond3 i = 1#1), 8 ∣ (k0_mult1763 v5611).toNat := fun i v5611 k0_hw882 k0_h3 => k0_hw882.1 k0_h3
theorem k0_off3545_inb : ∀ (i : grid0.Coords) (v5611 : BitVec 32) (k0_hw882 : k0_chk882 i v5611), ∀ (k0_h3 : k0_cond3 i = 1#1), ∀ a, (k0_off3545 v5611) a + S8x128.size a ≤ S131072x128.size a := fun i v5611 k0_hw882 k0_h3 => k0_hw882.2 k0_h3

def k0_off3546 (i : grid0.Coords) : Fin 3 → Nat :=
  let c0_3486 : Index := 0#32
  let c0_3487 : Index := 0#32
  let arg1 : BitVec 32 := BitVec.ofNat 32 (i 1).val
  let c2_i32_3481 : BitVec 32 := 2#32
  let v5620 : BitVec 32 := Scalar.muli arg1 c2_i32_3481
  let c1_i32_3482 : BitVec 32 := 1#32
  let v5621 : BitVec 32 := Scalar.addi v5620 c1_i32_3482
  let c256_i32_3483 : BitVec 32 := 256#32
  let v5622 : BitVec 32 := Scalar.muli v5621 c256_i32_3483
  let c113_i32_3484 : BitVec 32 := 113#32
  let v5623 : BitVec 32 := Scalar.addi v5622 c113_i32_3484
  let v5625 : Index := Scalar.indexCast v5623
  ![0, 0, v5625.toNat]
def k0_mult1765 (v5626 : BitVec 32) : BitVec 32 :=
  v5626

def k0_mult1766 (i : grid0.Coords) : BitVec 32 :=
  let arg1 : BitVec 32 := BitVec.ofNat 32 (i 1).val
  let c2_i32_3481 : BitVec 32 := 2#32
  let v5620 : BitVec 32 := Scalar.muli arg1 c2_i32_3481
  let c1_i32_3482 : BitVec 32 := 1#32
  let v5621 : BitVec 32 := Scalar.addi v5620 c1_i32_3482
  let c256_i32_3483 : BitVec 32 := 256#32
  let v5622 : BitVec 32 := Scalar.muli v5621 c256_i32_3483
  let c113_i32_3484 : BitVec 32 := 113#32
  let v5623 : BitVec 32 := Scalar.addi v5622 c113_i32_3484
  let c8_i32_3488 : BitVec 32 := 8#32
  let v5628 : BitVec 32 := Scalar.muli v5623 c8_i32_3488
  v5628
def k0_off3547 (i : grid0.Coords) : Fin 1 → Nat :=
  let c1_i32_3485 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5624 : BitVec 32 := Scalar.subi c1_i32_3485 v9
  ![v5624.toNat]
def k0_off3548 (i : grid0.Coords) : Fin 3 → Nat :=
  let c1_i32_3485 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5624 : BitVec 32 := Scalar.subi c1_i32_3485 v9
  let arg1 : BitVec 32 := BitVec.ofNat 32 (i 1).val
  let c2_i32_3481 : BitVec 32 := 2#32
  let v5620 : BitVec 32 := Scalar.muli arg1 c2_i32_3481
  let c1_i32_3482 : BitVec 32 := 1#32
  let v5621 : BitVec 32 := Scalar.addi v5620 c1_i32_3482
  let c256_i32_3483 : BitVec 32 := 256#32
  let v5622 : BitVec 32 := Scalar.muli v5621 c256_i32_3483
  let c113_i32_3484 : BitVec 32 := 113#32
  let v5623 : BitVec 32 := Scalar.addi v5622 c113_i32_3484
  let c8_i32_3488 : BitVec 32 := 8#32
  let v5628 : BitVec 32 := Scalar.muli v5623 c8_i32_3488
  let v5629 : BitVec 32 := v5628
  let c0_i32_3489 : BitVec 32 := 0#32
  ![v5624.toNat, v5629.toNat, 0]
def k0_off3549 (v5626 : BitVec 32) : Fin 2 → Nat :=
  let v5627 : BitVec 32 := v5626
  let c0_i32_3490 : BitVec 32 := 0#32
  ![v5627.toNat, 0]

def k0_chk883 (i : grid0.Coords) (v5626 : BitVec 32) : Prop :=
  (∀ (k0_h3 : k0_cond3 i = 1#1), 8 ∣ (k0_mult1765 v5626).toNat) ∧
  (∀ (k0_h3 : k0_cond3 i = 1#1), ∀ a, (k0_off3549 v5626) a + S8x128.size a ≤ S131072x128.size a)
theorem k0_mult1765_dvd : ∀ (i : grid0.Coords) (v5626 : BitVec 32) (k0_hw883 : k0_chk883 i v5626), ∀ (k0_h3 : k0_cond3 i = 1#1), 8 ∣ (k0_mult1765 v5626).toNat := fun i v5626 k0_hw883 k0_h3 => k0_hw883.1 k0_h3
theorem k0_off3549_inb : ∀ (i : grid0.Coords) (v5626 : BitVec 32) (k0_hw883 : k0_chk883 i v5626), ∀ (k0_h3 : k0_cond3 i = 1#1), ∀ a, (k0_off3549 v5626) a + S8x128.size a ≤ S131072x128.size a := fun i v5626 k0_hw883 k0_h3 => k0_hw883.2 k0_h3

def k0_off3550 (i : grid0.Coords) : Fin 3 → Nat :=
  let c0_3496 : Index := 0#32
  let c0_3497 : Index := 0#32
  let arg1 : BitVec 32 := BitVec.ofNat 32 (i 1).val
  let c2_i32_3491 : BitVec 32 := 2#32
  let v5635 : BitVec 32 := Scalar.muli arg1 c2_i32_3491
  let c1_i32_3492 : BitVec 32 := 1#32
  let v5636 : BitVec 32 := Scalar.addi v5635 c1_i32_3492
  let c256_i32_3493 : BitVec 32 := 256#32
  let v5637 : BitVec 32 := Scalar.muli v5636 c256_i32_3493
  let c114_i32_3494 : BitVec 32 := 114#32
  let v5638 : BitVec 32 := Scalar.addi v5637 c114_i32_3494
  let v5640 : Index := Scalar.indexCast v5638
  ![0, 0, v5640.toNat]
def k0_mult1767 (v5641 : BitVec 32) : BitVec 32 :=
  v5641

def k0_mult1768 (i : grid0.Coords) : BitVec 32 :=
  let arg1 : BitVec 32 := BitVec.ofNat 32 (i 1).val
  let c2_i32_3491 : BitVec 32 := 2#32
  let v5635 : BitVec 32 := Scalar.muli arg1 c2_i32_3491
  let c1_i32_3492 : BitVec 32 := 1#32
  let v5636 : BitVec 32 := Scalar.addi v5635 c1_i32_3492
  let c256_i32_3493 : BitVec 32 := 256#32
  let v5637 : BitVec 32 := Scalar.muli v5636 c256_i32_3493
  let c114_i32_3494 : BitVec 32 := 114#32
  let v5638 : BitVec 32 := Scalar.addi v5637 c114_i32_3494
  let c8_i32_3498 : BitVec 32 := 8#32
  let v5643 : BitVec 32 := Scalar.muli v5638 c8_i32_3498
  v5643
def k0_off3551 (i : grid0.Coords) : Fin 1 → Nat :=
  let c1_i32_3495 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5639 : BitVec 32 := Scalar.subi c1_i32_3495 v9
  ![v5639.toNat]
def k0_off3552 (i : grid0.Coords) : Fin 3 → Nat :=
  let c1_i32_3495 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5639 : BitVec 32 := Scalar.subi c1_i32_3495 v9
  let arg1 : BitVec 32 := BitVec.ofNat 32 (i 1).val
  let c2_i32_3491 : BitVec 32 := 2#32
  let v5635 : BitVec 32 := Scalar.muli arg1 c2_i32_3491
  let c1_i32_3492 : BitVec 32 := 1#32
  let v5636 : BitVec 32 := Scalar.addi v5635 c1_i32_3492
  let c256_i32_3493 : BitVec 32 := 256#32
  let v5637 : BitVec 32 := Scalar.muli v5636 c256_i32_3493
  let c114_i32_3494 : BitVec 32 := 114#32
  let v5638 : BitVec 32 := Scalar.addi v5637 c114_i32_3494
  let c8_i32_3498 : BitVec 32 := 8#32
  let v5643 : BitVec 32 := Scalar.muli v5638 c8_i32_3498
  let v5644 : BitVec 32 := v5643
  let c0_i32_3499 : BitVec 32 := 0#32
  ![v5639.toNat, v5644.toNat, 0]
def k0_off3553 (v5641 : BitVec 32) : Fin 2 → Nat :=
  let v5642 : BitVec 32 := v5641
  let c0_i32_3500 : BitVec 32 := 0#32
  ![v5642.toNat, 0]

def k0_chk884 (i : grid0.Coords) (v5641 : BitVec 32) : Prop :=
  (∀ (k0_h3 : k0_cond3 i = 1#1), 8 ∣ (k0_mult1767 v5641).toNat) ∧
  (∀ (k0_h3 : k0_cond3 i = 1#1), ∀ a, (k0_off3553 v5641) a + S8x128.size a ≤ S131072x128.size a)
theorem k0_mult1767_dvd : ∀ (i : grid0.Coords) (v5641 : BitVec 32) (k0_hw884 : k0_chk884 i v5641), ∀ (k0_h3 : k0_cond3 i = 1#1), 8 ∣ (k0_mult1767 v5641).toNat := fun i v5641 k0_hw884 k0_h3 => k0_hw884.1 k0_h3
theorem k0_off3553_inb : ∀ (i : grid0.Coords) (v5641 : BitVec 32) (k0_hw884 : k0_chk884 i v5641), ∀ (k0_h3 : k0_cond3 i = 1#1), ∀ a, (k0_off3553 v5641) a + S8x128.size a ≤ S131072x128.size a := fun i v5641 k0_hw884 k0_h3 => k0_hw884.2 k0_h3

def k0_off3554 (i : grid0.Coords) : Fin 3 → Nat :=
  let c0_3506 : Index := 0#32
  let c0_3507 : Index := 0#32
  let arg1 : BitVec 32 := BitVec.ofNat 32 (i 1).val
  let c2_i32_3501 : BitVec 32 := 2#32
  let v5650 : BitVec 32 := Scalar.muli arg1 c2_i32_3501
  let c1_i32_3502 : BitVec 32 := 1#32
  let v5651 : BitVec 32 := Scalar.addi v5650 c1_i32_3502
  let c256_i32_3503 : BitVec 32 := 256#32
  let v5652 : BitVec 32 := Scalar.muli v5651 c256_i32_3503
  let c115_i32_3504 : BitVec 32 := 115#32
  let v5653 : BitVec 32 := Scalar.addi v5652 c115_i32_3504
  let v5655 : Index := Scalar.indexCast v5653
  ![0, 0, v5655.toNat]
def k0_mult1769 (v5656 : BitVec 32) : BitVec 32 :=
  v5656

def k0_mult1770 (i : grid0.Coords) : BitVec 32 :=
  let arg1 : BitVec 32 := BitVec.ofNat 32 (i 1).val
  let c2_i32_3501 : BitVec 32 := 2#32
  let v5650 : BitVec 32 := Scalar.muli arg1 c2_i32_3501
  let c1_i32_3502 : BitVec 32 := 1#32
  let v5651 : BitVec 32 := Scalar.addi v5650 c1_i32_3502
  let c256_i32_3503 : BitVec 32 := 256#32
  let v5652 : BitVec 32 := Scalar.muli v5651 c256_i32_3503
  let c115_i32_3504 : BitVec 32 := 115#32
  let v5653 : BitVec 32 := Scalar.addi v5652 c115_i32_3504
  let c8_i32_3508 : BitVec 32 := 8#32
  let v5658 : BitVec 32 := Scalar.muli v5653 c8_i32_3508
  v5658
def k0_off3555 (i : grid0.Coords) : Fin 1 → Nat :=
  let c1_i32_3505 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5654 : BitVec 32 := Scalar.subi c1_i32_3505 v9
  ![v5654.toNat]
def k0_off3556 (i : grid0.Coords) : Fin 3 → Nat :=
  let c1_i32_3505 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5654 : BitVec 32 := Scalar.subi c1_i32_3505 v9
  let arg1 : BitVec 32 := BitVec.ofNat 32 (i 1).val
  let c2_i32_3501 : BitVec 32 := 2#32
  let v5650 : BitVec 32 := Scalar.muli arg1 c2_i32_3501
  let c1_i32_3502 : BitVec 32 := 1#32
  let v5651 : BitVec 32 := Scalar.addi v5650 c1_i32_3502
  let c256_i32_3503 : BitVec 32 := 256#32
  let v5652 : BitVec 32 := Scalar.muli v5651 c256_i32_3503
  let c115_i32_3504 : BitVec 32 := 115#32
  let v5653 : BitVec 32 := Scalar.addi v5652 c115_i32_3504
  let c8_i32_3508 : BitVec 32 := 8#32
  let v5658 : BitVec 32 := Scalar.muli v5653 c8_i32_3508
  let v5659 : BitVec 32 := v5658
  let c0_i32_3509 : BitVec 32 := 0#32
  ![v5654.toNat, v5659.toNat, 0]
def k0_off3557 (v5656 : BitVec 32) : Fin 2 → Nat :=
  let v5657 : BitVec 32 := v5656
  let c0_i32_3510 : BitVec 32 := 0#32
  ![v5657.toNat, 0]

def k0_chk885 (i : grid0.Coords) (v5656 : BitVec 32) : Prop :=
  (∀ (k0_h3 : k0_cond3 i = 1#1), 8 ∣ (k0_mult1769 v5656).toNat) ∧
  (∀ (k0_h3 : k0_cond3 i = 1#1), ∀ a, (k0_off3557 v5656) a + S8x128.size a ≤ S131072x128.size a)
theorem k0_mult1769_dvd : ∀ (i : grid0.Coords) (v5656 : BitVec 32) (k0_hw885 : k0_chk885 i v5656), ∀ (k0_h3 : k0_cond3 i = 1#1), 8 ∣ (k0_mult1769 v5656).toNat := fun i v5656 k0_hw885 k0_h3 => k0_hw885.1 k0_h3
theorem k0_off3557_inb : ∀ (i : grid0.Coords) (v5656 : BitVec 32) (k0_hw885 : k0_chk885 i v5656), ∀ (k0_h3 : k0_cond3 i = 1#1), ∀ a, (k0_off3557 v5656) a + S8x128.size a ≤ S131072x128.size a := fun i v5656 k0_hw885 k0_h3 => k0_hw885.2 k0_h3

def k0_off3558 (i : grid0.Coords) : Fin 3 → Nat :=
  let c0_3516 : Index := 0#32
  let c0_3517 : Index := 0#32
  let arg1 : BitVec 32 := BitVec.ofNat 32 (i 1).val
  let c2_i32_3511 : BitVec 32 := 2#32
  let v5665 : BitVec 32 := Scalar.muli arg1 c2_i32_3511
  let c1_i32_3512 : BitVec 32 := 1#32
  let v5666 : BitVec 32 := Scalar.addi v5665 c1_i32_3512
  let c256_i32_3513 : BitVec 32 := 256#32
  let v5667 : BitVec 32 := Scalar.muli v5666 c256_i32_3513
  let c116_i32_3514 : BitVec 32 := 116#32
  let v5668 : BitVec 32 := Scalar.addi v5667 c116_i32_3514
  let v5670 : Index := Scalar.indexCast v5668
  ![0, 0, v5670.toNat]
def k0_mult1771 (v5671 : BitVec 32) : BitVec 32 :=
  v5671

def k0_mult1772 (i : grid0.Coords) : BitVec 32 :=
  let arg1 : BitVec 32 := BitVec.ofNat 32 (i 1).val
  let c2_i32_3511 : BitVec 32 := 2#32
  let v5665 : BitVec 32 := Scalar.muli arg1 c2_i32_3511
  let c1_i32_3512 : BitVec 32 := 1#32
  let v5666 : BitVec 32 := Scalar.addi v5665 c1_i32_3512
  let c256_i32_3513 : BitVec 32 := 256#32
  let v5667 : BitVec 32 := Scalar.muli v5666 c256_i32_3513
  let c116_i32_3514 : BitVec 32 := 116#32
  let v5668 : BitVec 32 := Scalar.addi v5667 c116_i32_3514
  let c8_i32_3518 : BitVec 32 := 8#32
  let v5673 : BitVec 32 := Scalar.muli v5668 c8_i32_3518
  v5673
def k0_off3559 (i : grid0.Coords) : Fin 1 → Nat :=
  let c1_i32_3515 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5669 : BitVec 32 := Scalar.subi c1_i32_3515 v9
  ![v5669.toNat]
def k0_off3560 (i : grid0.Coords) : Fin 3 → Nat :=
  let c1_i32_3515 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5669 : BitVec 32 := Scalar.subi c1_i32_3515 v9
  let arg1 : BitVec 32 := BitVec.ofNat 32 (i 1).val
  let c2_i32_3511 : BitVec 32 := 2#32
  let v5665 : BitVec 32 := Scalar.muli arg1 c2_i32_3511
  let c1_i32_3512 : BitVec 32 := 1#32
  let v5666 : BitVec 32 := Scalar.addi v5665 c1_i32_3512
  let c256_i32_3513 : BitVec 32 := 256#32
  let v5667 : BitVec 32 := Scalar.muli v5666 c256_i32_3513
  let c116_i32_3514 : BitVec 32 := 116#32
  let v5668 : BitVec 32 := Scalar.addi v5667 c116_i32_3514
  let c8_i32_3518 : BitVec 32 := 8#32
  let v5673 : BitVec 32 := Scalar.muli v5668 c8_i32_3518
  let v5674 : BitVec 32 := v5673
  let c0_i32_3519 : BitVec 32 := 0#32
  ![v5669.toNat, v5674.toNat, 0]
def k0_off3561 (v5671 : BitVec 32) : Fin 2 → Nat :=
  let v5672 : BitVec 32 := v5671
  let c0_i32_3520 : BitVec 32 := 0#32
  ![v5672.toNat, 0]

def k0_chk886 (i : grid0.Coords) (v5671 : BitVec 32) : Prop :=
  (∀ (k0_h3 : k0_cond3 i = 1#1), 8 ∣ (k0_mult1771 v5671).toNat) ∧
  (∀ (k0_h3 : k0_cond3 i = 1#1), ∀ a, (k0_off3561 v5671) a + S8x128.size a ≤ S131072x128.size a)
theorem k0_mult1771_dvd : ∀ (i : grid0.Coords) (v5671 : BitVec 32) (k0_hw886 : k0_chk886 i v5671), ∀ (k0_h3 : k0_cond3 i = 1#1), 8 ∣ (k0_mult1771 v5671).toNat := fun i v5671 k0_hw886 k0_h3 => k0_hw886.1 k0_h3
theorem k0_off3561_inb : ∀ (i : grid0.Coords) (v5671 : BitVec 32) (k0_hw886 : k0_chk886 i v5671), ∀ (k0_h3 : k0_cond3 i = 1#1), ∀ a, (k0_off3561 v5671) a + S8x128.size a ≤ S131072x128.size a := fun i v5671 k0_hw886 k0_h3 => k0_hw886.2 k0_h3

def k0_off3562 (i : grid0.Coords) : Fin 3 → Nat :=
  let c0_3526 : Index := 0#32
  let c0_3527 : Index := 0#32
  let arg1 : BitVec 32 := BitVec.ofNat 32 (i 1).val
  let c2_i32_3521 : BitVec 32 := 2#32
  let v5680 : BitVec 32 := Scalar.muli arg1 c2_i32_3521
  let c1_i32_3522 : BitVec 32 := 1#32
  let v5681 : BitVec 32 := Scalar.addi v5680 c1_i32_3522
  let c256_i32_3523 : BitVec 32 := 256#32
  let v5682 : BitVec 32 := Scalar.muli v5681 c256_i32_3523
  let c117_i32_3524 : BitVec 32 := 117#32
  let v5683 : BitVec 32 := Scalar.addi v5682 c117_i32_3524
  let v5685 : Index := Scalar.indexCast v5683
  ![0, 0, v5685.toNat]
def k0_mult1773 (v5686 : BitVec 32) : BitVec 32 :=
  v5686

def k0_mult1774 (i : grid0.Coords) : BitVec 32 :=
  let arg1 : BitVec 32 := BitVec.ofNat 32 (i 1).val
  let c2_i32_3521 : BitVec 32 := 2#32
  let v5680 : BitVec 32 := Scalar.muli arg1 c2_i32_3521
  let c1_i32_3522 : BitVec 32 := 1#32
  let v5681 : BitVec 32 := Scalar.addi v5680 c1_i32_3522
  let c256_i32_3523 : BitVec 32 := 256#32
  let v5682 : BitVec 32 := Scalar.muli v5681 c256_i32_3523
  let c117_i32_3524 : BitVec 32 := 117#32
  let v5683 : BitVec 32 := Scalar.addi v5682 c117_i32_3524
  let c8_i32_3528 : BitVec 32 := 8#32
  let v5688 : BitVec 32 := Scalar.muli v5683 c8_i32_3528
  v5688
def k0_off3563 (i : grid0.Coords) : Fin 1 → Nat :=
  let c1_i32_3525 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5684 : BitVec 32 := Scalar.subi c1_i32_3525 v9
  ![v5684.toNat]
def k0_off3564 (i : grid0.Coords) : Fin 3 → Nat :=
  let c1_i32_3525 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5684 : BitVec 32 := Scalar.subi c1_i32_3525 v9
  let arg1 : BitVec 32 := BitVec.ofNat 32 (i 1).val
  let c2_i32_3521 : BitVec 32 := 2#32
  let v5680 : BitVec 32 := Scalar.muli arg1 c2_i32_3521
  let c1_i32_3522 : BitVec 32 := 1#32
  let v5681 : BitVec 32 := Scalar.addi v5680 c1_i32_3522
  let c256_i32_3523 : BitVec 32 := 256#32
  let v5682 : BitVec 32 := Scalar.muli v5681 c256_i32_3523
  let c117_i32_3524 : BitVec 32 := 117#32
  let v5683 : BitVec 32 := Scalar.addi v5682 c117_i32_3524
  let c8_i32_3528 : BitVec 32 := 8#32
  let v5688 : BitVec 32 := Scalar.muli v5683 c8_i32_3528
  let v5689 : BitVec 32 := v5688
  let c0_i32_3529 : BitVec 32 := 0#32
  ![v5684.toNat, v5689.toNat, 0]
def k0_off3565 (v5686 : BitVec 32) : Fin 2 → Nat :=
  let v5687 : BitVec 32 := v5686
  let c0_i32_3530 : BitVec 32 := 0#32
  ![v5687.toNat, 0]

def k0_chk887 (i : grid0.Coords) (v5686 : BitVec 32) : Prop :=
  (∀ (k0_h3 : k0_cond3 i = 1#1), 8 ∣ (k0_mult1773 v5686).toNat) ∧
  (∀ (k0_h3 : k0_cond3 i = 1#1), ∀ a, (k0_off3565 v5686) a + S8x128.size a ≤ S131072x128.size a)
theorem k0_mult1773_dvd : ∀ (i : grid0.Coords) (v5686 : BitVec 32) (k0_hw887 : k0_chk887 i v5686), ∀ (k0_h3 : k0_cond3 i = 1#1), 8 ∣ (k0_mult1773 v5686).toNat := fun i v5686 k0_hw887 k0_h3 => k0_hw887.1 k0_h3
theorem k0_off3565_inb : ∀ (i : grid0.Coords) (v5686 : BitVec 32) (k0_hw887 : k0_chk887 i v5686), ∀ (k0_h3 : k0_cond3 i = 1#1), ∀ a, (k0_off3565 v5686) a + S8x128.size a ≤ S131072x128.size a := fun i v5686 k0_hw887 k0_h3 => k0_hw887.2 k0_h3

def k0_off3566 (i : grid0.Coords) : Fin 3 → Nat :=
  let c0_3536 : Index := 0#32
  let c0_3537 : Index := 0#32
  let arg1 : BitVec 32 := BitVec.ofNat 32 (i 1).val
  let c2_i32_3531 : BitVec 32 := 2#32
  let v5695 : BitVec 32 := Scalar.muli arg1 c2_i32_3531
  let c1_i32_3532 : BitVec 32 := 1#32
  let v5696 : BitVec 32 := Scalar.addi v5695 c1_i32_3532
  let c256_i32_3533 : BitVec 32 := 256#32
  let v5697 : BitVec 32 := Scalar.muli v5696 c256_i32_3533
  let c118_i32_3534 : BitVec 32 := 118#32
  let v5698 : BitVec 32 := Scalar.addi v5697 c118_i32_3534
  let v5700 : Index := Scalar.indexCast v5698
  ![0, 0, v5700.toNat]
def k0_mult1775 (v5701 : BitVec 32) : BitVec 32 :=
  v5701

def k0_mult1776 (i : grid0.Coords) : BitVec 32 :=
  let arg1 : BitVec 32 := BitVec.ofNat 32 (i 1).val
  let c2_i32_3531 : BitVec 32 := 2#32
  let v5695 : BitVec 32 := Scalar.muli arg1 c2_i32_3531
  let c1_i32_3532 : BitVec 32 := 1#32
  let v5696 : BitVec 32 := Scalar.addi v5695 c1_i32_3532
  let c256_i32_3533 : BitVec 32 := 256#32
  let v5697 : BitVec 32 := Scalar.muli v5696 c256_i32_3533
  let c118_i32_3534 : BitVec 32 := 118#32
  let v5698 : BitVec 32 := Scalar.addi v5697 c118_i32_3534
  let c8_i32_3538 : BitVec 32 := 8#32
  let v5703 : BitVec 32 := Scalar.muli v5698 c8_i32_3538
  v5703
def k0_off3567 (i : grid0.Coords) : Fin 1 → Nat :=
  let c1_i32_3535 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5699 : BitVec 32 := Scalar.subi c1_i32_3535 v9
  ![v5699.toNat]
def k0_off3568 (i : grid0.Coords) : Fin 3 → Nat :=
  let c1_i32_3535 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5699 : BitVec 32 := Scalar.subi c1_i32_3535 v9
  let arg1 : BitVec 32 := BitVec.ofNat 32 (i 1).val
  let c2_i32_3531 : BitVec 32 := 2#32
  let v5695 : BitVec 32 := Scalar.muli arg1 c2_i32_3531
  let c1_i32_3532 : BitVec 32 := 1#32
  let v5696 : BitVec 32 := Scalar.addi v5695 c1_i32_3532
  let c256_i32_3533 : BitVec 32 := 256#32
  let v5697 : BitVec 32 := Scalar.muli v5696 c256_i32_3533
  let c118_i32_3534 : BitVec 32 := 118#32
  let v5698 : BitVec 32 := Scalar.addi v5697 c118_i32_3534
  let c8_i32_3538 : BitVec 32 := 8#32
  let v5703 : BitVec 32 := Scalar.muli v5698 c8_i32_3538
  let v5704 : BitVec 32 := v5703
  let c0_i32_3539 : BitVec 32 := 0#32
  ![v5699.toNat, v5704.toNat, 0]
def k0_off3569 (v5701 : BitVec 32) : Fin 2 → Nat :=
  let v5702 : BitVec 32 := v5701
  let c0_i32_3540 : BitVec 32 := 0#32
  ![v5702.toNat, 0]

def k0_chk888 (i : grid0.Coords) (v5701 : BitVec 32) : Prop :=
  (∀ (k0_h3 : k0_cond3 i = 1#1), 8 ∣ (k0_mult1775 v5701).toNat) ∧
  (∀ (k0_h3 : k0_cond3 i = 1#1), ∀ a, (k0_off3569 v5701) a + S8x128.size a ≤ S131072x128.size a)
theorem k0_mult1775_dvd : ∀ (i : grid0.Coords) (v5701 : BitVec 32) (k0_hw888 : k0_chk888 i v5701), ∀ (k0_h3 : k0_cond3 i = 1#1), 8 ∣ (k0_mult1775 v5701).toNat := fun i v5701 k0_hw888 k0_h3 => k0_hw888.1 k0_h3
theorem k0_off3569_inb : ∀ (i : grid0.Coords) (v5701 : BitVec 32) (k0_hw888 : k0_chk888 i v5701), ∀ (k0_h3 : k0_cond3 i = 1#1), ∀ a, (k0_off3569 v5701) a + S8x128.size a ≤ S131072x128.size a := fun i v5701 k0_hw888 k0_h3 => k0_hw888.2 k0_h3

def k0_off3570 (i : grid0.Coords) : Fin 3 → Nat :=
  let c0_3546 : Index := 0#32
  let c0_3547 : Index := 0#32
  let arg1 : BitVec 32 := BitVec.ofNat 32 (i 1).val
  let c2_i32_3541 : BitVec 32 := 2#32
  let v5710 : BitVec 32 := Scalar.muli arg1 c2_i32_3541
  let c1_i32_3542 : BitVec 32 := 1#32
  let v5711 : BitVec 32 := Scalar.addi v5710 c1_i32_3542
  let c256_i32_3543 : BitVec 32 := 256#32
  let v5712 : BitVec 32 := Scalar.muli v5711 c256_i32_3543
  let c119_i32_3544 : BitVec 32 := 119#32
  let v5713 : BitVec 32 := Scalar.addi v5712 c119_i32_3544
  let v5715 : Index := Scalar.indexCast v5713
  ![0, 0, v5715.toNat]
def k0_mult1777 (v5716 : BitVec 32) : BitVec 32 :=
  v5716

def k0_mult1778 (i : grid0.Coords) : BitVec 32 :=
  let arg1 : BitVec 32 := BitVec.ofNat 32 (i 1).val
  let c2_i32_3541 : BitVec 32 := 2#32
  let v5710 : BitVec 32 := Scalar.muli arg1 c2_i32_3541
  let c1_i32_3542 : BitVec 32 := 1#32
  let v5711 : BitVec 32 := Scalar.addi v5710 c1_i32_3542
  let c256_i32_3543 : BitVec 32 := 256#32
  let v5712 : BitVec 32 := Scalar.muli v5711 c256_i32_3543
  let c119_i32_3544 : BitVec 32 := 119#32
  let v5713 : BitVec 32 := Scalar.addi v5712 c119_i32_3544
  let c8_i32_3548 : BitVec 32 := 8#32
  let v5718 : BitVec 32 := Scalar.muli v5713 c8_i32_3548
  v5718
def k0_off3571 (i : grid0.Coords) : Fin 1 → Nat :=
  let c1_i32_3545 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5714 : BitVec 32 := Scalar.subi c1_i32_3545 v9
  ![v5714.toNat]
def k0_off3572 (i : grid0.Coords) : Fin 3 → Nat :=
  let c1_i32_3545 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5714 : BitVec 32 := Scalar.subi c1_i32_3545 v9
  let arg1 : BitVec 32 := BitVec.ofNat 32 (i 1).val
  let c2_i32_3541 : BitVec 32 := 2#32
  let v5710 : BitVec 32 := Scalar.muli arg1 c2_i32_3541
  let c1_i32_3542 : BitVec 32 := 1#32
  let v5711 : BitVec 32 := Scalar.addi v5710 c1_i32_3542
  let c256_i32_3543 : BitVec 32 := 256#32
  let v5712 : BitVec 32 := Scalar.muli v5711 c256_i32_3543
  let c119_i32_3544 : BitVec 32 := 119#32
  let v5713 : BitVec 32 := Scalar.addi v5712 c119_i32_3544
  let c8_i32_3548 : BitVec 32 := 8#32
  let v5718 : BitVec 32 := Scalar.muli v5713 c8_i32_3548
  let v5719 : BitVec 32 := v5718
  let c0_i32_3549 : BitVec 32 := 0#32
  ![v5714.toNat, v5719.toNat, 0]
def k0_off3573 (v5716 : BitVec 32) : Fin 2 → Nat :=
  let v5717 : BitVec 32 := v5716
  let c0_i32_3550 : BitVec 32 := 0#32
  ![v5717.toNat, 0]

def k0_chk889 (i : grid0.Coords) (v5716 : BitVec 32) : Prop :=
  (∀ (k0_h3 : k0_cond3 i = 1#1), 8 ∣ (k0_mult1777 v5716).toNat) ∧
  (∀ (k0_h3 : k0_cond3 i = 1#1), ∀ a, (k0_off3573 v5716) a + S8x128.size a ≤ S131072x128.size a)
theorem k0_mult1777_dvd : ∀ (i : grid0.Coords) (v5716 : BitVec 32) (k0_hw889 : k0_chk889 i v5716), ∀ (k0_h3 : k0_cond3 i = 1#1), 8 ∣ (k0_mult1777 v5716).toNat := fun i v5716 k0_hw889 k0_h3 => k0_hw889.1 k0_h3
theorem k0_off3573_inb : ∀ (i : grid0.Coords) (v5716 : BitVec 32) (k0_hw889 : k0_chk889 i v5716), ∀ (k0_h3 : k0_cond3 i = 1#1), ∀ a, (k0_off3573 v5716) a + S8x128.size a ≤ S131072x128.size a := fun i v5716 k0_hw889 k0_h3 => k0_hw889.2 k0_h3

def k0_off3574 (i : grid0.Coords) : Fin 3 → Nat :=
  let c0_3556 : Index := 0#32
  let c0_3557 : Index := 0#32
  let arg1 : BitVec 32 := BitVec.ofNat 32 (i 1).val
  let c2_i32_3551 : BitVec 32 := 2#32
  let v5725 : BitVec 32 := Scalar.muli arg1 c2_i32_3551
  let c1_i32_3552 : BitVec 32 := 1#32
  let v5726 : BitVec 32 := Scalar.addi v5725 c1_i32_3552
  let c256_i32_3553 : BitVec 32 := 256#32
  let v5727 : BitVec 32 := Scalar.muli v5726 c256_i32_3553
  let c120_i32_3554 : BitVec 32 := 120#32
  let v5728 : BitVec 32 := Scalar.addi v5727 c120_i32_3554
  let v5730 : Index := Scalar.indexCast v5728
  ![0, 0, v5730.toNat]
def k0_mult1779 (v5731 : BitVec 32) : BitVec 32 :=
  v5731

def k0_mult1780 (i : grid0.Coords) : BitVec 32 :=
  let arg1 : BitVec 32 := BitVec.ofNat 32 (i 1).val
  let c2_i32_3551 : BitVec 32 := 2#32
  let v5725 : BitVec 32 := Scalar.muli arg1 c2_i32_3551
  let c1_i32_3552 : BitVec 32 := 1#32
  let v5726 : BitVec 32 := Scalar.addi v5725 c1_i32_3552
  let c256_i32_3553 : BitVec 32 := 256#32
  let v5727 : BitVec 32 := Scalar.muli v5726 c256_i32_3553
  let c120_i32_3554 : BitVec 32 := 120#32
  let v5728 : BitVec 32 := Scalar.addi v5727 c120_i32_3554
  let c8_i32_3558 : BitVec 32 := 8#32
  let v5733 : BitVec 32 := Scalar.muli v5728 c8_i32_3558
  v5733
def k0_off3575 (i : grid0.Coords) : Fin 1 → Nat :=
  let c1_i32_3555 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5729 : BitVec 32 := Scalar.subi c1_i32_3555 v9
  ![v5729.toNat]
def k0_off3576 (i : grid0.Coords) : Fin 3 → Nat :=
  let c1_i32_3555 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5729 : BitVec 32 := Scalar.subi c1_i32_3555 v9
  let arg1 : BitVec 32 := BitVec.ofNat 32 (i 1).val
  let c2_i32_3551 : BitVec 32 := 2#32
  let v5725 : BitVec 32 := Scalar.muli arg1 c2_i32_3551
  let c1_i32_3552 : BitVec 32 := 1#32
  let v5726 : BitVec 32 := Scalar.addi v5725 c1_i32_3552
  let c256_i32_3553 : BitVec 32 := 256#32
  let v5727 : BitVec 32 := Scalar.muli v5726 c256_i32_3553
  let c120_i32_3554 : BitVec 32 := 120#32
  let v5728 : BitVec 32 := Scalar.addi v5727 c120_i32_3554
  let c8_i32_3558 : BitVec 32 := 8#32
  let v5733 : BitVec 32 := Scalar.muli v5728 c8_i32_3558
  let v5734 : BitVec 32 := v5733
  let c0_i32_3559 : BitVec 32 := 0#32
  ![v5729.toNat, v5734.toNat, 0]
def k0_off3577 (v5731 : BitVec 32) : Fin 2 → Nat :=
  let v5732 : BitVec 32 := v5731
  let c0_i32_3560 : BitVec 32 := 0#32
  ![v5732.toNat, 0]

def k0_chk890 (i : grid0.Coords) (v5731 : BitVec 32) : Prop :=
  (∀ (k0_h3 : k0_cond3 i = 1#1), 8 ∣ (k0_mult1779 v5731).toNat) ∧
  (∀ (k0_h3 : k0_cond3 i = 1#1), ∀ a, (k0_off3577 v5731) a + S8x128.size a ≤ S131072x128.size a)
theorem k0_mult1779_dvd : ∀ (i : grid0.Coords) (v5731 : BitVec 32) (k0_hw890 : k0_chk890 i v5731), ∀ (k0_h3 : k0_cond3 i = 1#1), 8 ∣ (k0_mult1779 v5731).toNat := fun i v5731 k0_hw890 k0_h3 => k0_hw890.1 k0_h3
theorem k0_off3577_inb : ∀ (i : grid0.Coords) (v5731 : BitVec 32) (k0_hw890 : k0_chk890 i v5731), ∀ (k0_h3 : k0_cond3 i = 1#1), ∀ a, (k0_off3577 v5731) a + S8x128.size a ≤ S131072x128.size a := fun i v5731 k0_hw890 k0_h3 => k0_hw890.2 k0_h3

def k0_off3578 (i : grid0.Coords) : Fin 3 → Nat :=
  let c0_3566 : Index := 0#32
  let c0_3567 : Index := 0#32
  let arg1 : BitVec 32 := BitVec.ofNat 32 (i 1).val
  let c2_i32_3561 : BitVec 32 := 2#32
  let v5740 : BitVec 32 := Scalar.muli arg1 c2_i32_3561
  let c1_i32_3562 : BitVec 32 := 1#32
  let v5741 : BitVec 32 := Scalar.addi v5740 c1_i32_3562
  let c256_i32_3563 : BitVec 32 := 256#32
  let v5742 : BitVec 32 := Scalar.muli v5741 c256_i32_3563
  let c121_i32_3564 : BitVec 32 := 121#32
  let v5743 : BitVec 32 := Scalar.addi v5742 c121_i32_3564
  let v5745 : Index := Scalar.indexCast v5743
  ![0, 0, v5745.toNat]
def k0_mult1781 (v5746 : BitVec 32) : BitVec 32 :=
  v5746

def k0_mult1782 (i : grid0.Coords) : BitVec 32 :=
  let arg1 : BitVec 32 := BitVec.ofNat 32 (i 1).val
  let c2_i32_3561 : BitVec 32 := 2#32
  let v5740 : BitVec 32 := Scalar.muli arg1 c2_i32_3561
  let c1_i32_3562 : BitVec 32 := 1#32
  let v5741 : BitVec 32 := Scalar.addi v5740 c1_i32_3562
  let c256_i32_3563 : BitVec 32 := 256#32
  let v5742 : BitVec 32 := Scalar.muli v5741 c256_i32_3563
  let c121_i32_3564 : BitVec 32 := 121#32
  let v5743 : BitVec 32 := Scalar.addi v5742 c121_i32_3564
  let c8_i32_3568 : BitVec 32 := 8#32
  let v5748 : BitVec 32 := Scalar.muli v5743 c8_i32_3568
  v5748
def k0_off3579 (i : grid0.Coords) : Fin 1 → Nat :=
  let c1_i32_3565 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5744 : BitVec 32 := Scalar.subi c1_i32_3565 v9
  ![v5744.toNat]
def k0_off3580 (i : grid0.Coords) : Fin 3 → Nat :=
  let c1_i32_3565 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5744 : BitVec 32 := Scalar.subi c1_i32_3565 v9
  let arg1 : BitVec 32 := BitVec.ofNat 32 (i 1).val
  let c2_i32_3561 : BitVec 32 := 2#32
  let v5740 : BitVec 32 := Scalar.muli arg1 c2_i32_3561
  let c1_i32_3562 : BitVec 32 := 1#32
  let v5741 : BitVec 32 := Scalar.addi v5740 c1_i32_3562
  let c256_i32_3563 : BitVec 32 := 256#32
  let v5742 : BitVec 32 := Scalar.muli v5741 c256_i32_3563
  let c121_i32_3564 : BitVec 32 := 121#32
  let v5743 : BitVec 32 := Scalar.addi v5742 c121_i32_3564
  let c8_i32_3568 : BitVec 32 := 8#32
  let v5748 : BitVec 32 := Scalar.muli v5743 c8_i32_3568
  let v5749 : BitVec 32 := v5748
  let c0_i32_3569 : BitVec 32 := 0#32
  ![v5744.toNat, v5749.toNat, 0]
def k0_off3581 (v5746 : BitVec 32) : Fin 2 → Nat :=
  let v5747 : BitVec 32 := v5746
  let c0_i32_3570 : BitVec 32 := 0#32
  ![v5747.toNat, 0]

def k0_chk891 (i : grid0.Coords) (v5746 : BitVec 32) : Prop :=
  (∀ (k0_h3 : k0_cond3 i = 1#1), 8 ∣ (k0_mult1781 v5746).toNat) ∧
  (∀ (k0_h3 : k0_cond3 i = 1#1), ∀ a, (k0_off3581 v5746) a + S8x128.size a ≤ S131072x128.size a)
theorem k0_mult1781_dvd : ∀ (i : grid0.Coords) (v5746 : BitVec 32) (k0_hw891 : k0_chk891 i v5746), ∀ (k0_h3 : k0_cond3 i = 1#1), 8 ∣ (k0_mult1781 v5746).toNat := fun i v5746 k0_hw891 k0_h3 => k0_hw891.1 k0_h3
theorem k0_off3581_inb : ∀ (i : grid0.Coords) (v5746 : BitVec 32) (k0_hw891 : k0_chk891 i v5746), ∀ (k0_h3 : k0_cond3 i = 1#1), ∀ a, (k0_off3581 v5746) a + S8x128.size a ≤ S131072x128.size a := fun i v5746 k0_hw891 k0_h3 => k0_hw891.2 k0_h3

def k0_off3582 (i : grid0.Coords) : Fin 3 → Nat :=
  let c0_3576 : Index := 0#32
  let c0_3577 : Index := 0#32
  let arg1 : BitVec 32 := BitVec.ofNat 32 (i 1).val
  let c2_i32_3571 : BitVec 32 := 2#32
  let v5755 : BitVec 32 := Scalar.muli arg1 c2_i32_3571
  let c1_i32_3572 : BitVec 32 := 1#32
  let v5756 : BitVec 32 := Scalar.addi v5755 c1_i32_3572
  let c256_i32_3573 : BitVec 32 := 256#32
  let v5757 : BitVec 32 := Scalar.muli v5756 c256_i32_3573
  let c122_i32_3574 : BitVec 32 := 122#32
  let v5758 : BitVec 32 := Scalar.addi v5757 c122_i32_3574
  let v5760 : Index := Scalar.indexCast v5758
  ![0, 0, v5760.toNat]
def k0_mult1783 (v5761 : BitVec 32) : BitVec 32 :=
  v5761

def k0_mult1784 (i : grid0.Coords) : BitVec 32 :=
  let arg1 : BitVec 32 := BitVec.ofNat 32 (i 1).val
  let c2_i32_3571 : BitVec 32 := 2#32
  let v5755 : BitVec 32 := Scalar.muli arg1 c2_i32_3571
  let c1_i32_3572 : BitVec 32 := 1#32
  let v5756 : BitVec 32 := Scalar.addi v5755 c1_i32_3572
  let c256_i32_3573 : BitVec 32 := 256#32
  let v5757 : BitVec 32 := Scalar.muli v5756 c256_i32_3573
  let c122_i32_3574 : BitVec 32 := 122#32
  let v5758 : BitVec 32 := Scalar.addi v5757 c122_i32_3574
  let c8_i32_3578 : BitVec 32 := 8#32
  let v5763 : BitVec 32 := Scalar.muli v5758 c8_i32_3578
  v5763
def k0_off3583 (i : grid0.Coords) : Fin 1 → Nat :=
  let c1_i32_3575 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5759 : BitVec 32 := Scalar.subi c1_i32_3575 v9
  ![v5759.toNat]
def k0_off3584 (i : grid0.Coords) : Fin 3 → Nat :=
  let c1_i32_3575 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5759 : BitVec 32 := Scalar.subi c1_i32_3575 v9
  let arg1 : BitVec 32 := BitVec.ofNat 32 (i 1).val
  let c2_i32_3571 : BitVec 32 := 2#32
  let v5755 : BitVec 32 := Scalar.muli arg1 c2_i32_3571
  let c1_i32_3572 : BitVec 32 := 1#32
  let v5756 : BitVec 32 := Scalar.addi v5755 c1_i32_3572
  let c256_i32_3573 : BitVec 32 := 256#32
  let v5757 : BitVec 32 := Scalar.muli v5756 c256_i32_3573
  let c122_i32_3574 : BitVec 32 := 122#32
  let v5758 : BitVec 32 := Scalar.addi v5757 c122_i32_3574
  let c8_i32_3578 : BitVec 32 := 8#32
  let v5763 : BitVec 32 := Scalar.muli v5758 c8_i32_3578
  let v5764 : BitVec 32 := v5763
  let c0_i32_3579 : BitVec 32 := 0#32
  ![v5759.toNat, v5764.toNat, 0]
def k0_off3585 (v5761 : BitVec 32) : Fin 2 → Nat :=
  let v5762 : BitVec 32 := v5761
  let c0_i32_3580 : BitVec 32 := 0#32
  ![v5762.toNat, 0]

def k0_chk892 (i : grid0.Coords) (v5761 : BitVec 32) : Prop :=
  (∀ (k0_h3 : k0_cond3 i = 1#1), 8 ∣ (k0_mult1783 v5761).toNat) ∧
  (∀ (k0_h3 : k0_cond3 i = 1#1), ∀ a, (k0_off3585 v5761) a + S8x128.size a ≤ S131072x128.size a)
theorem k0_mult1783_dvd : ∀ (i : grid0.Coords) (v5761 : BitVec 32) (k0_hw892 : k0_chk892 i v5761), ∀ (k0_h3 : k0_cond3 i = 1#1), 8 ∣ (k0_mult1783 v5761).toNat := fun i v5761 k0_hw892 k0_h3 => k0_hw892.1 k0_h3
theorem k0_off3585_inb : ∀ (i : grid0.Coords) (v5761 : BitVec 32) (k0_hw892 : k0_chk892 i v5761), ∀ (k0_h3 : k0_cond3 i = 1#1), ∀ a, (k0_off3585 v5761) a + S8x128.size a ≤ S131072x128.size a := fun i v5761 k0_hw892 k0_h3 => k0_hw892.2 k0_h3

def k0_off3586 (i : grid0.Coords) : Fin 3 → Nat :=
  let c0_3586 : Index := 0#32
  let c0_3587 : Index := 0#32
  let arg1 : BitVec 32 := BitVec.ofNat 32 (i 1).val
  let c2_i32_3581 : BitVec 32 := 2#32
  let v5770 : BitVec 32 := Scalar.muli arg1 c2_i32_3581
  let c1_i32_3582 : BitVec 32 := 1#32
  let v5771 : BitVec 32 := Scalar.addi v5770 c1_i32_3582
  let c256_i32_3583 : BitVec 32 := 256#32
  let v5772 : BitVec 32 := Scalar.muli v5771 c256_i32_3583
  let c123_i32_3584 : BitVec 32 := 123#32
  let v5773 : BitVec 32 := Scalar.addi v5772 c123_i32_3584
  let v5775 : Index := Scalar.indexCast v5773
  ![0, 0, v5775.toNat]
def k0_mult1785 (v5776 : BitVec 32) : BitVec 32 :=
  v5776

def k0_mult1786 (i : grid0.Coords) : BitVec 32 :=
  let arg1 : BitVec 32 := BitVec.ofNat 32 (i 1).val
  let c2_i32_3581 : BitVec 32 := 2#32
  let v5770 : BitVec 32 := Scalar.muli arg1 c2_i32_3581
  let c1_i32_3582 : BitVec 32 := 1#32
  let v5771 : BitVec 32 := Scalar.addi v5770 c1_i32_3582
  let c256_i32_3583 : BitVec 32 := 256#32
  let v5772 : BitVec 32 := Scalar.muli v5771 c256_i32_3583
  let c123_i32_3584 : BitVec 32 := 123#32
  let v5773 : BitVec 32 := Scalar.addi v5772 c123_i32_3584
  let c8_i32_3588 : BitVec 32 := 8#32
  let v5778 : BitVec 32 := Scalar.muli v5773 c8_i32_3588
  v5778
def k0_off3587 (i : grid0.Coords) : Fin 1 → Nat :=
  let c1_i32_3585 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5774 : BitVec 32 := Scalar.subi c1_i32_3585 v9
  ![v5774.toNat]
def k0_off3588 (i : grid0.Coords) : Fin 3 → Nat :=
  let c1_i32_3585 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5774 : BitVec 32 := Scalar.subi c1_i32_3585 v9
  let arg1 : BitVec 32 := BitVec.ofNat 32 (i 1).val
  let c2_i32_3581 : BitVec 32 := 2#32
  let v5770 : BitVec 32 := Scalar.muli arg1 c2_i32_3581
  let c1_i32_3582 : BitVec 32 := 1#32
  let v5771 : BitVec 32 := Scalar.addi v5770 c1_i32_3582
  let c256_i32_3583 : BitVec 32 := 256#32
  let v5772 : BitVec 32 := Scalar.muli v5771 c256_i32_3583
  let c123_i32_3584 : BitVec 32 := 123#32
  let v5773 : BitVec 32 := Scalar.addi v5772 c123_i32_3584
  let c8_i32_3588 : BitVec 32 := 8#32
  let v5778 : BitVec 32 := Scalar.muli v5773 c8_i32_3588
  let v5779 : BitVec 32 := v5778
  let c0_i32_3589 : BitVec 32 := 0#32
  ![v5774.toNat, v5779.toNat, 0]
def k0_off3589 (v5776 : BitVec 32) : Fin 2 → Nat :=
  let v5777 : BitVec 32 := v5776
  let c0_i32_3590 : BitVec 32 := 0#32
  ![v5777.toNat, 0]

def k0_chk893 (i : grid0.Coords) (v5776 : BitVec 32) : Prop :=
  (∀ (k0_h3 : k0_cond3 i = 1#1), 8 ∣ (k0_mult1785 v5776).toNat) ∧
  (∀ (k0_h3 : k0_cond3 i = 1#1), ∀ a, (k0_off3589 v5776) a + S8x128.size a ≤ S131072x128.size a)
theorem k0_mult1785_dvd : ∀ (i : grid0.Coords) (v5776 : BitVec 32) (k0_hw893 : k0_chk893 i v5776), ∀ (k0_h3 : k0_cond3 i = 1#1), 8 ∣ (k0_mult1785 v5776).toNat := fun i v5776 k0_hw893 k0_h3 => k0_hw893.1 k0_h3
theorem k0_off3589_inb : ∀ (i : grid0.Coords) (v5776 : BitVec 32) (k0_hw893 : k0_chk893 i v5776), ∀ (k0_h3 : k0_cond3 i = 1#1), ∀ a, (k0_off3589 v5776) a + S8x128.size a ≤ S131072x128.size a := fun i v5776 k0_hw893 k0_h3 => k0_hw893.2 k0_h3

def k0_off3590 (i : grid0.Coords) : Fin 3 → Nat :=
  let c0_3596 : Index := 0#32
  let c0_3597 : Index := 0#32
  let arg1 : BitVec 32 := BitVec.ofNat 32 (i 1).val
  let c2_i32_3591 : BitVec 32 := 2#32
  let v5785 : BitVec 32 := Scalar.muli arg1 c2_i32_3591
  let c1_i32_3592 : BitVec 32 := 1#32
  let v5786 : BitVec 32 := Scalar.addi v5785 c1_i32_3592
  let c256_i32_3593 : BitVec 32 := 256#32
  let v5787 : BitVec 32 := Scalar.muli v5786 c256_i32_3593
  let c124_i32_3594 : BitVec 32 := 124#32
  let v5788 : BitVec 32 := Scalar.addi v5787 c124_i32_3594
  let v5790 : Index := Scalar.indexCast v5788
  ![0, 0, v5790.toNat]
def k0_mult1787 (v5791 : BitVec 32) : BitVec 32 :=
  v5791

def k0_mult1788 (i : grid0.Coords) : BitVec 32 :=
  let arg1 : BitVec 32 := BitVec.ofNat 32 (i 1).val
  let c2_i32_3591 : BitVec 32 := 2#32
  let v5785 : BitVec 32 := Scalar.muli arg1 c2_i32_3591
  let c1_i32_3592 : BitVec 32 := 1#32
  let v5786 : BitVec 32 := Scalar.addi v5785 c1_i32_3592
  let c256_i32_3593 : BitVec 32 := 256#32
  let v5787 : BitVec 32 := Scalar.muli v5786 c256_i32_3593
  let c124_i32_3594 : BitVec 32 := 124#32
  let v5788 : BitVec 32 := Scalar.addi v5787 c124_i32_3594
  let c8_i32_3598 : BitVec 32 := 8#32
  let v5793 : BitVec 32 := Scalar.muli v5788 c8_i32_3598
  v5793
def k0_off3591 (i : grid0.Coords) : Fin 1 → Nat :=
  let c1_i32_3595 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5789 : BitVec 32 := Scalar.subi c1_i32_3595 v9
  ![v5789.toNat]
def k0_off3592 (i : grid0.Coords) : Fin 3 → Nat :=
  let c1_i32_3595 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5789 : BitVec 32 := Scalar.subi c1_i32_3595 v9
  let arg1 : BitVec 32 := BitVec.ofNat 32 (i 1).val
  let c2_i32_3591 : BitVec 32 := 2#32
  let v5785 : BitVec 32 := Scalar.muli arg1 c2_i32_3591
  let c1_i32_3592 : BitVec 32 := 1#32
  let v5786 : BitVec 32 := Scalar.addi v5785 c1_i32_3592
  let c256_i32_3593 : BitVec 32 := 256#32
  let v5787 : BitVec 32 := Scalar.muli v5786 c256_i32_3593
  let c124_i32_3594 : BitVec 32 := 124#32
  let v5788 : BitVec 32 := Scalar.addi v5787 c124_i32_3594
  let c8_i32_3598 : BitVec 32 := 8#32
  let v5793 : BitVec 32 := Scalar.muli v5788 c8_i32_3598
  let v5794 : BitVec 32 := v5793
  let c0_i32_3599 : BitVec 32 := 0#32
  ![v5789.toNat, v5794.toNat, 0]
def k0_off3593 (v5791 : BitVec 32) : Fin 2 → Nat :=
  let v5792 : BitVec 32 := v5791
  let c0_i32_3600 : BitVec 32 := 0#32
  ![v5792.toNat, 0]

def k0_chk894 (i : grid0.Coords) (v5791 : BitVec 32) : Prop :=
  (∀ (k0_h3 : k0_cond3 i = 1#1), 8 ∣ (k0_mult1787 v5791).toNat) ∧
  (∀ (k0_h3 : k0_cond3 i = 1#1), ∀ a, (k0_off3593 v5791) a + S8x128.size a ≤ S131072x128.size a)
theorem k0_mult1787_dvd : ∀ (i : grid0.Coords) (v5791 : BitVec 32) (k0_hw894 : k0_chk894 i v5791), ∀ (k0_h3 : k0_cond3 i = 1#1), 8 ∣ (k0_mult1787 v5791).toNat := fun i v5791 k0_hw894 k0_h3 => k0_hw894.1 k0_h3
theorem k0_off3593_inb : ∀ (i : grid0.Coords) (v5791 : BitVec 32) (k0_hw894 : k0_chk894 i v5791), ∀ (k0_h3 : k0_cond3 i = 1#1), ∀ a, (k0_off3593 v5791) a + S8x128.size a ≤ S131072x128.size a := fun i v5791 k0_hw894 k0_h3 => k0_hw894.2 k0_h3

def k0_off3594 (i : grid0.Coords) : Fin 3 → Nat :=
  let c0_3606 : Index := 0#32
  let c0_3607 : Index := 0#32
  let arg1 : BitVec 32 := BitVec.ofNat 32 (i 1).val
  let c2_i32_3601 : BitVec 32 := 2#32
  let v5800 : BitVec 32 := Scalar.muli arg1 c2_i32_3601
  let c1_i32_3602 : BitVec 32 := 1#32
  let v5801 : BitVec 32 := Scalar.addi v5800 c1_i32_3602
  let c256_i32_3603 : BitVec 32 := 256#32
  let v5802 : BitVec 32 := Scalar.muli v5801 c256_i32_3603
  let c125_i32_3604 : BitVec 32 := 125#32
  let v5803 : BitVec 32 := Scalar.addi v5802 c125_i32_3604
  let v5805 : Index := Scalar.indexCast v5803
  ![0, 0, v5805.toNat]
def k0_mult1789 (v5806 : BitVec 32) : BitVec 32 :=
  v5806

def k0_mult1790 (i : grid0.Coords) : BitVec 32 :=
  let arg1 : BitVec 32 := BitVec.ofNat 32 (i 1).val
  let c2_i32_3601 : BitVec 32 := 2#32
  let v5800 : BitVec 32 := Scalar.muli arg1 c2_i32_3601
  let c1_i32_3602 : BitVec 32 := 1#32
  let v5801 : BitVec 32 := Scalar.addi v5800 c1_i32_3602
  let c256_i32_3603 : BitVec 32 := 256#32
  let v5802 : BitVec 32 := Scalar.muli v5801 c256_i32_3603
  let c125_i32_3604 : BitVec 32 := 125#32
  let v5803 : BitVec 32 := Scalar.addi v5802 c125_i32_3604
  let c8_i32_3608 : BitVec 32 := 8#32
  let v5808 : BitVec 32 := Scalar.muli v5803 c8_i32_3608
  v5808
def k0_off3595 (i : grid0.Coords) : Fin 1 → Nat :=
  let c1_i32_3605 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5804 : BitVec 32 := Scalar.subi c1_i32_3605 v9
  ![v5804.toNat]
def k0_off3596 (i : grid0.Coords) : Fin 3 → Nat :=
  let c1_i32_3605 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5804 : BitVec 32 := Scalar.subi c1_i32_3605 v9
  let arg1 : BitVec 32 := BitVec.ofNat 32 (i 1).val
  let c2_i32_3601 : BitVec 32 := 2#32
  let v5800 : BitVec 32 := Scalar.muli arg1 c2_i32_3601
  let c1_i32_3602 : BitVec 32 := 1#32
  let v5801 : BitVec 32 := Scalar.addi v5800 c1_i32_3602
  let c256_i32_3603 : BitVec 32 := 256#32
  let v5802 : BitVec 32 := Scalar.muli v5801 c256_i32_3603
  let c125_i32_3604 : BitVec 32 := 125#32
  let v5803 : BitVec 32 := Scalar.addi v5802 c125_i32_3604
  let c8_i32_3608 : BitVec 32 := 8#32
  let v5808 : BitVec 32 := Scalar.muli v5803 c8_i32_3608
  let v5809 : BitVec 32 := v5808
  let c0_i32_3609 : BitVec 32 := 0#32
  ![v5804.toNat, v5809.toNat, 0]
def k0_off3597 (v5806 : BitVec 32) : Fin 2 → Nat :=
  let v5807 : BitVec 32 := v5806
  let c0_i32_3610 : BitVec 32 := 0#32
  ![v5807.toNat, 0]

def k0_chk895 (i : grid0.Coords) (v5806 : BitVec 32) : Prop :=
  (∀ (k0_h3 : k0_cond3 i = 1#1), 8 ∣ (k0_mult1789 v5806).toNat) ∧
  (∀ (k0_h3 : k0_cond3 i = 1#1), ∀ a, (k0_off3597 v5806) a + S8x128.size a ≤ S131072x128.size a)
theorem k0_mult1789_dvd : ∀ (i : grid0.Coords) (v5806 : BitVec 32) (k0_hw895 : k0_chk895 i v5806), ∀ (k0_h3 : k0_cond3 i = 1#1), 8 ∣ (k0_mult1789 v5806).toNat := fun i v5806 k0_hw895 k0_h3 => k0_hw895.1 k0_h3
theorem k0_off3597_inb : ∀ (i : grid0.Coords) (v5806 : BitVec 32) (k0_hw895 : k0_chk895 i v5806), ∀ (k0_h3 : k0_cond3 i = 1#1), ∀ a, (k0_off3597 v5806) a + S8x128.size a ≤ S131072x128.size a := fun i v5806 k0_hw895 k0_h3 => k0_hw895.2 k0_h3

def k0_off3598 (i : grid0.Coords) : Fin 3 → Nat :=
  let c0_3616 : Index := 0#32
  let c0_3617 : Index := 0#32
  let arg1 : BitVec 32 := BitVec.ofNat 32 (i 1).val
  let c2_i32_3611 : BitVec 32 := 2#32
  let v5815 : BitVec 32 := Scalar.muli arg1 c2_i32_3611
  let c1_i32_3612 : BitVec 32 := 1#32
  let v5816 : BitVec 32 := Scalar.addi v5815 c1_i32_3612
  let c256_i32_3613 : BitVec 32 := 256#32
  let v5817 : BitVec 32 := Scalar.muli v5816 c256_i32_3613
  let c126_i32_3614 : BitVec 32 := 126#32
  let v5818 : BitVec 32 := Scalar.addi v5817 c126_i32_3614
  let v5820 : Index := Scalar.indexCast v5818
  ![0, 0, v5820.toNat]
def k0_mult1791 (v5821 : BitVec 32) : BitVec 32 :=
  v5821

def k0_mult1792 (i : grid0.Coords) : BitVec 32 :=
  let arg1 : BitVec 32 := BitVec.ofNat 32 (i 1).val
  let c2_i32_3611 : BitVec 32 := 2#32
  let v5815 : BitVec 32 := Scalar.muli arg1 c2_i32_3611
  let c1_i32_3612 : BitVec 32 := 1#32
  let v5816 : BitVec 32 := Scalar.addi v5815 c1_i32_3612
  let c256_i32_3613 : BitVec 32 := 256#32
  let v5817 : BitVec 32 := Scalar.muli v5816 c256_i32_3613
  let c126_i32_3614 : BitVec 32 := 126#32
  let v5818 : BitVec 32 := Scalar.addi v5817 c126_i32_3614
  let c8_i32_3618 : BitVec 32 := 8#32
  let v5823 : BitVec 32 := Scalar.muli v5818 c8_i32_3618
  v5823
def k0_off3599 (i : grid0.Coords) : Fin 1 → Nat :=
  let c1_i32_3615 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5819 : BitVec 32 := Scalar.subi c1_i32_3615 v9
  ![v5819.toNat]
def k0_off3600 (i : grid0.Coords) : Fin 3 → Nat :=
  let c1_i32_3615 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5819 : BitVec 32 := Scalar.subi c1_i32_3615 v9
  let arg1 : BitVec 32 := BitVec.ofNat 32 (i 1).val
  let c2_i32_3611 : BitVec 32 := 2#32
  let v5815 : BitVec 32 := Scalar.muli arg1 c2_i32_3611
  let c1_i32_3612 : BitVec 32 := 1#32
  let v5816 : BitVec 32 := Scalar.addi v5815 c1_i32_3612
  let c256_i32_3613 : BitVec 32 := 256#32
  let v5817 : BitVec 32 := Scalar.muli v5816 c256_i32_3613
  let c126_i32_3614 : BitVec 32 := 126#32
  let v5818 : BitVec 32 := Scalar.addi v5817 c126_i32_3614
  let c8_i32_3618 : BitVec 32 := 8#32
  let v5823 : BitVec 32 := Scalar.muli v5818 c8_i32_3618
  let v5824 : BitVec 32 := v5823
  let c0_i32_3619 : BitVec 32 := 0#32
  ![v5819.toNat, v5824.toNat, 0]
def k0_off3601 (v5821 : BitVec 32) : Fin 2 → Nat :=
  let v5822 : BitVec 32 := v5821
  let c0_i32_3620 : BitVec 32 := 0#32
  ![v5822.toNat, 0]

def k0_chk896 (i : grid0.Coords) (v5821 : BitVec 32) : Prop :=
  (∀ (k0_h3 : k0_cond3 i = 1#1), 8 ∣ (k0_mult1791 v5821).toNat) ∧
  (∀ (k0_h3 : k0_cond3 i = 1#1), ∀ a, (k0_off3601 v5821) a + S8x128.size a ≤ S131072x128.size a)
theorem k0_mult1791_dvd : ∀ (i : grid0.Coords) (v5821 : BitVec 32) (k0_hw896 : k0_chk896 i v5821), ∀ (k0_h3 : k0_cond3 i = 1#1), 8 ∣ (k0_mult1791 v5821).toNat := fun i v5821 k0_hw896 k0_h3 => k0_hw896.1 k0_h3
theorem k0_off3601_inb : ∀ (i : grid0.Coords) (v5821 : BitVec 32) (k0_hw896 : k0_chk896 i v5821), ∀ (k0_h3 : k0_cond3 i = 1#1), ∀ a, (k0_off3601 v5821) a + S8x128.size a ≤ S131072x128.size a := fun i v5821 k0_hw896 k0_h3 => k0_hw896.2 k0_h3

def k0_off3602 (i : grid0.Coords) : Fin 3 → Nat :=
  let c0_3626 : Index := 0#32
  let c0_3627 : Index := 0#32
  let arg1 : BitVec 32 := BitVec.ofNat 32 (i 1).val
  let c2_i32_3621 : BitVec 32 := 2#32
  let v5830 : BitVec 32 := Scalar.muli arg1 c2_i32_3621
  let c1_i32_3622 : BitVec 32 := 1#32
  let v5831 : BitVec 32 := Scalar.addi v5830 c1_i32_3622
  let c256_i32_3623 : BitVec 32 := 256#32
  let v5832 : BitVec 32 := Scalar.muli v5831 c256_i32_3623
  let c127_i32_3624 : BitVec 32 := 127#32
  let v5833 : BitVec 32 := Scalar.addi v5832 c127_i32_3624
  let v5835 : Index := Scalar.indexCast v5833
  ![0, 0, v5835.toNat]
def k0_mult1793 (v5836 : BitVec 32) : BitVec 32 :=
  v5836

def k0_mult1794 (i : grid0.Coords) : BitVec 32 :=
  let arg1 : BitVec 32 := BitVec.ofNat 32 (i 1).val
  let c2_i32_3621 : BitVec 32 := 2#32
  let v5830 : BitVec 32 := Scalar.muli arg1 c2_i32_3621
  let c1_i32_3622 : BitVec 32 := 1#32
  let v5831 : BitVec 32 := Scalar.addi v5830 c1_i32_3622
  let c256_i32_3623 : BitVec 32 := 256#32
  let v5832 : BitVec 32 := Scalar.muli v5831 c256_i32_3623
  let c127_i32_3624 : BitVec 32 := 127#32
  let v5833 : BitVec 32 := Scalar.addi v5832 c127_i32_3624
  let c8_i32_3628 : BitVec 32 := 8#32
  let v5838 : BitVec 32 := Scalar.muli v5833 c8_i32_3628
  v5838
def k0_off3603 (i : grid0.Coords) : Fin 1 → Nat :=
  let c1_i32_3625 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5834 : BitVec 32 := Scalar.subi c1_i32_3625 v9
  ![v5834.toNat]
def k0_off3604 (i : grid0.Coords) : Fin 3 → Nat :=
  let c1_i32_3625 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5834 : BitVec 32 := Scalar.subi c1_i32_3625 v9
  let arg1 : BitVec 32 := BitVec.ofNat 32 (i 1).val
  let c2_i32_3621 : BitVec 32 := 2#32
  let v5830 : BitVec 32 := Scalar.muli arg1 c2_i32_3621
  let c1_i32_3622 : BitVec 32 := 1#32
  let v5831 : BitVec 32 := Scalar.addi v5830 c1_i32_3622
  let c256_i32_3623 : BitVec 32 := 256#32
  let v5832 : BitVec 32 := Scalar.muli v5831 c256_i32_3623
  let c127_i32_3624 : BitVec 32 := 127#32
  let v5833 : BitVec 32 := Scalar.addi v5832 c127_i32_3624
  let c8_i32_3628 : BitVec 32 := 8#32
  let v5838 : BitVec 32 := Scalar.muli v5833 c8_i32_3628
  let v5839 : BitVec 32 := v5838
  let c0_i32_3629 : BitVec 32 := 0#32
  ![v5834.toNat, v5839.toNat, 0]
def k0_off3605 (v5836 : BitVec 32) : Fin 2 → Nat :=
  let v5837 : BitVec 32 := v5836
  let c0_i32_3630 : BitVec 32 := 0#32
  ![v5837.toNat, 0]

def k0_chk897 (i : grid0.Coords) (v5836 : BitVec 32) : Prop :=
  (∀ (k0_h3 : k0_cond3 i = 1#1), 8 ∣ (k0_mult1793 v5836).toNat) ∧
  (∀ (k0_h3 : k0_cond3 i = 1#1), ∀ a, (k0_off3605 v5836) a + S8x128.size a ≤ S131072x128.size a)
theorem k0_mult1793_dvd : ∀ (i : grid0.Coords) (v5836 : BitVec 32) (k0_hw897 : k0_chk897 i v5836), ∀ (k0_h3 : k0_cond3 i = 1#1), 8 ∣ (k0_mult1793 v5836).toNat := fun i v5836 k0_hw897 k0_h3 => k0_hw897.1 k0_h3
theorem k0_off3605_inb : ∀ (i : grid0.Coords) (v5836 : BitVec 32) (k0_hw897 : k0_chk897 i v5836), ∀ (k0_h3 : k0_cond3 i = 1#1), ∀ a, (k0_off3605 v5836) a + S8x128.size a ≤ S131072x128.size a := fun i v5836 k0_hw897 k0_h3 => k0_hw897.2 k0_h3

def k0_off3606 (i : grid0.Coords) : Fin 3 → Nat :=
  let c0_3636 : Index := 0#32
  let c0_3637 : Index := 0#32
  let arg1 : BitVec 32 := BitVec.ofNat 32 (i 1).val
  let c2_i32_3631 : BitVec 32 := 2#32
  let v5845 : BitVec 32 := Scalar.muli arg1 c2_i32_3631
  let c1_i32_3632 : BitVec 32 := 1#32
  let v5846 : BitVec 32 := Scalar.addi v5845 c1_i32_3632
  let c256_i32_3633 : BitVec 32 := 256#32
  let v5847 : BitVec 32 := Scalar.muli v5846 c256_i32_3633
  let c128_i32_3634 : BitVec 32 := 128#32
  let v5848 : BitVec 32 := Scalar.addi v5847 c128_i32_3634
  let v5850 : Index := Scalar.indexCast v5848
  ![0, 0, v5850.toNat]
def k0_mult1795 (v5851 : BitVec 32) : BitVec 32 :=
  v5851

def k0_mult1796 (i : grid0.Coords) : BitVec 32 :=
  let arg1 : BitVec 32 := BitVec.ofNat 32 (i 1).val
  let c2_i32_3631 : BitVec 32 := 2#32
  let v5845 : BitVec 32 := Scalar.muli arg1 c2_i32_3631
  let c1_i32_3632 : BitVec 32 := 1#32
  let v5846 : BitVec 32 := Scalar.addi v5845 c1_i32_3632
  let c256_i32_3633 : BitVec 32 := 256#32
  let v5847 : BitVec 32 := Scalar.muli v5846 c256_i32_3633
  let c128_i32_3634 : BitVec 32 := 128#32
  let v5848 : BitVec 32 := Scalar.addi v5847 c128_i32_3634
  let c8_i32_3638 : BitVec 32 := 8#32
  let v5853 : BitVec 32 := Scalar.muli v5848 c8_i32_3638
  v5853
def k0_off3607 (i : grid0.Coords) : Fin 1 → Nat :=
  let c1_i32_3635 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5849 : BitVec 32 := Scalar.subi c1_i32_3635 v9
  ![v5849.toNat]
def k0_off3608 (i : grid0.Coords) : Fin 3 → Nat :=
  let c1_i32_3635 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5849 : BitVec 32 := Scalar.subi c1_i32_3635 v9
  let arg1 : BitVec 32 := BitVec.ofNat 32 (i 1).val
  let c2_i32_3631 : BitVec 32 := 2#32
  let v5845 : BitVec 32 := Scalar.muli arg1 c2_i32_3631
  let c1_i32_3632 : BitVec 32 := 1#32
  let v5846 : BitVec 32 := Scalar.addi v5845 c1_i32_3632
  let c256_i32_3633 : BitVec 32 := 256#32
  let v5847 : BitVec 32 := Scalar.muli v5846 c256_i32_3633
  let c128_i32_3634 : BitVec 32 := 128#32
  let v5848 : BitVec 32 := Scalar.addi v5847 c128_i32_3634
  let c8_i32_3638 : BitVec 32 := 8#32
  let v5853 : BitVec 32 := Scalar.muli v5848 c8_i32_3638
  let v5854 : BitVec 32 := v5853
  let c0_i32_3639 : BitVec 32 := 0#32
  ![v5849.toNat, v5854.toNat, 0]
def k0_off3609 (v5851 : BitVec 32) : Fin 2 → Nat :=
  let v5852 : BitVec 32 := v5851
  let c0_i32_3640 : BitVec 32 := 0#32
  ![v5852.toNat, 0]

def k0_chk898 (i : grid0.Coords) (v5851 : BitVec 32) : Prop :=
  (∀ (k0_h3 : k0_cond3 i = 1#1), 8 ∣ (k0_mult1795 v5851).toNat) ∧
  (∀ (k0_h3 : k0_cond3 i = 1#1), ∀ a, (k0_off3609 v5851) a + S8x128.size a ≤ S131072x128.size a)
theorem k0_mult1795_dvd : ∀ (i : grid0.Coords) (v5851 : BitVec 32) (k0_hw898 : k0_chk898 i v5851), ∀ (k0_h3 : k0_cond3 i = 1#1), 8 ∣ (k0_mult1795 v5851).toNat := fun i v5851 k0_hw898 k0_h3 => k0_hw898.1 k0_h3
theorem k0_off3609_inb : ∀ (i : grid0.Coords) (v5851 : BitVec 32) (k0_hw898 : k0_chk898 i v5851), ∀ (k0_h3 : k0_cond3 i = 1#1), ∀ a, (k0_off3609 v5851) a + S8x128.size a ≤ S131072x128.size a := fun i v5851 k0_hw898 k0_h3 => k0_hw898.2 k0_h3

def k0_off3610 (i : grid0.Coords) : Fin 3 → Nat :=
  let c0_3646 : Index := 0#32
  let c0_3647 : Index := 0#32
  let arg1 : BitVec 32 := BitVec.ofNat 32 (i 1).val
  let c2_i32_3641 : BitVec 32 := 2#32
  let v5860 : BitVec 32 := Scalar.muli arg1 c2_i32_3641
  let c1_i32_3642 : BitVec 32 := 1#32
  let v5861 : BitVec 32 := Scalar.addi v5860 c1_i32_3642
  let c256_i32_3643 : BitVec 32 := 256#32
  let v5862 : BitVec 32 := Scalar.muli v5861 c256_i32_3643
  let c129_i32_3644 : BitVec 32 := 129#32
  let v5863 : BitVec 32 := Scalar.addi v5862 c129_i32_3644
  let v5865 : Index := Scalar.indexCast v5863
  ![0, 0, v5865.toNat]
def k0_mult1797 (v5866 : BitVec 32) : BitVec 32 :=
  v5866

def k0_mult1798 (i : grid0.Coords) : BitVec 32 :=
  let arg1 : BitVec 32 := BitVec.ofNat 32 (i 1).val
  let c2_i32_3641 : BitVec 32 := 2#32
  let v5860 : BitVec 32 := Scalar.muli arg1 c2_i32_3641
  let c1_i32_3642 : BitVec 32 := 1#32
  let v5861 : BitVec 32 := Scalar.addi v5860 c1_i32_3642
  let c256_i32_3643 : BitVec 32 := 256#32
  let v5862 : BitVec 32 := Scalar.muli v5861 c256_i32_3643
  let c129_i32_3644 : BitVec 32 := 129#32
  let v5863 : BitVec 32 := Scalar.addi v5862 c129_i32_3644
  let c8_i32_3648 : BitVec 32 := 8#32
  let v5868 : BitVec 32 := Scalar.muli v5863 c8_i32_3648
  v5868
def k0_off3611 (i : grid0.Coords) : Fin 1 → Nat :=
  let c1_i32_3645 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5864 : BitVec 32 := Scalar.subi c1_i32_3645 v9
  ![v5864.toNat]
def k0_off3612 (i : grid0.Coords) : Fin 3 → Nat :=
  let c1_i32_3645 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5864 : BitVec 32 := Scalar.subi c1_i32_3645 v9
  let arg1 : BitVec 32 := BitVec.ofNat 32 (i 1).val
  let c2_i32_3641 : BitVec 32 := 2#32
  let v5860 : BitVec 32 := Scalar.muli arg1 c2_i32_3641
  let c1_i32_3642 : BitVec 32 := 1#32
  let v5861 : BitVec 32 := Scalar.addi v5860 c1_i32_3642
  let c256_i32_3643 : BitVec 32 := 256#32
  let v5862 : BitVec 32 := Scalar.muli v5861 c256_i32_3643
  let c129_i32_3644 : BitVec 32 := 129#32
  let v5863 : BitVec 32 := Scalar.addi v5862 c129_i32_3644
  let c8_i32_3648 : BitVec 32 := 8#32
  let v5868 : BitVec 32 := Scalar.muli v5863 c8_i32_3648
  let v5869 : BitVec 32 := v5868
  let c0_i32_3649 : BitVec 32 := 0#32
  ![v5864.toNat, v5869.toNat, 0]
def k0_off3613 (v5866 : BitVec 32) : Fin 2 → Nat :=
  let v5867 : BitVec 32 := v5866
  let c0_i32_3650 : BitVec 32 := 0#32
  ![v5867.toNat, 0]

def k0_chk899 (i : grid0.Coords) (v5866 : BitVec 32) : Prop :=
  (∀ (k0_h3 : k0_cond3 i = 1#1), 8 ∣ (k0_mult1797 v5866).toNat) ∧
  (∀ (k0_h3 : k0_cond3 i = 1#1), ∀ a, (k0_off3613 v5866) a + S8x128.size a ≤ S131072x128.size a)
theorem k0_mult1797_dvd : ∀ (i : grid0.Coords) (v5866 : BitVec 32) (k0_hw899 : k0_chk899 i v5866), ∀ (k0_h3 : k0_cond3 i = 1#1), 8 ∣ (k0_mult1797 v5866).toNat := fun i v5866 k0_hw899 k0_h3 => k0_hw899.1 k0_h3
theorem k0_off3613_inb : ∀ (i : grid0.Coords) (v5866 : BitVec 32) (k0_hw899 : k0_chk899 i v5866), ∀ (k0_h3 : k0_cond3 i = 1#1), ∀ a, (k0_off3613 v5866) a + S8x128.size a ≤ S131072x128.size a := fun i v5866 k0_hw899 k0_h3 => k0_hw899.2 k0_h3

def k0_off3614 (i : grid0.Coords) : Fin 3 → Nat :=
  let c0_3656 : Index := 0#32
  let c0_3657 : Index := 0#32
  let arg1 : BitVec 32 := BitVec.ofNat 32 (i 1).val
  let c2_i32_3651 : BitVec 32 := 2#32
  let v5875 : BitVec 32 := Scalar.muli arg1 c2_i32_3651
  let c1_i32_3652 : BitVec 32 := 1#32
  let v5876 : BitVec 32 := Scalar.addi v5875 c1_i32_3652
  let c256_i32_3653 : BitVec 32 := 256#32
  let v5877 : BitVec 32 := Scalar.muli v5876 c256_i32_3653
  let c130_i32_3654 : BitVec 32 := 130#32
  let v5878 : BitVec 32 := Scalar.addi v5877 c130_i32_3654
  let v5880 : Index := Scalar.indexCast v5878
  ![0, 0, v5880.toNat]
def k0_mult1799 (v5881 : BitVec 32) : BitVec 32 :=
  v5881

def k0_mult1800 (i : grid0.Coords) : BitVec 32 :=
  let arg1 : BitVec 32 := BitVec.ofNat 32 (i 1).val
  let c2_i32_3651 : BitVec 32 := 2#32
  let v5875 : BitVec 32 := Scalar.muli arg1 c2_i32_3651
  let c1_i32_3652 : BitVec 32 := 1#32
  let v5876 : BitVec 32 := Scalar.addi v5875 c1_i32_3652
  let c256_i32_3653 : BitVec 32 := 256#32
  let v5877 : BitVec 32 := Scalar.muli v5876 c256_i32_3653
  let c130_i32_3654 : BitVec 32 := 130#32
  let v5878 : BitVec 32 := Scalar.addi v5877 c130_i32_3654
  let c8_i32_3658 : BitVec 32 := 8#32
  let v5883 : BitVec 32 := Scalar.muli v5878 c8_i32_3658
  v5883
def k0_off3615 (i : grid0.Coords) : Fin 1 → Nat :=
  let c1_i32_3655 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5879 : BitVec 32 := Scalar.subi c1_i32_3655 v9
  ![v5879.toNat]
def k0_off3616 (i : grid0.Coords) : Fin 3 → Nat :=
  let c1_i32_3655 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5879 : BitVec 32 := Scalar.subi c1_i32_3655 v9
  let arg1 : BitVec 32 := BitVec.ofNat 32 (i 1).val
  let c2_i32_3651 : BitVec 32 := 2#32
  let v5875 : BitVec 32 := Scalar.muli arg1 c2_i32_3651
  let c1_i32_3652 : BitVec 32 := 1#32
  let v5876 : BitVec 32 := Scalar.addi v5875 c1_i32_3652
  let c256_i32_3653 : BitVec 32 := 256#32
  let v5877 : BitVec 32 := Scalar.muli v5876 c256_i32_3653
  let c130_i32_3654 : BitVec 32 := 130#32
  let v5878 : BitVec 32 := Scalar.addi v5877 c130_i32_3654
  let c8_i32_3658 : BitVec 32 := 8#32
  let v5883 : BitVec 32 := Scalar.muli v5878 c8_i32_3658
  let v5884 : BitVec 32 := v5883
  let c0_i32_3659 : BitVec 32 := 0#32
  ![v5879.toNat, v5884.toNat, 0]
def k0_off3617 (v5881 : BitVec 32) : Fin 2 → Nat :=
  let v5882 : BitVec 32 := v5881
  let c0_i32_3660 : BitVec 32 := 0#32
  ![v5882.toNat, 0]

def k0_chk900 (i : grid0.Coords) (v5881 : BitVec 32) : Prop :=
  (∀ (k0_h3 : k0_cond3 i = 1#1), 8 ∣ (k0_mult1799 v5881).toNat) ∧
  (∀ (k0_h3 : k0_cond3 i = 1#1), ∀ a, (k0_off3617 v5881) a + S8x128.size a ≤ S131072x128.size a)
theorem k0_mult1799_dvd : ∀ (i : grid0.Coords) (v5881 : BitVec 32) (k0_hw900 : k0_chk900 i v5881), ∀ (k0_h3 : k0_cond3 i = 1#1), 8 ∣ (k0_mult1799 v5881).toNat := fun i v5881 k0_hw900 k0_h3 => k0_hw900.1 k0_h3
theorem k0_off3617_inb : ∀ (i : grid0.Coords) (v5881 : BitVec 32) (k0_hw900 : k0_chk900 i v5881), ∀ (k0_h3 : k0_cond3 i = 1#1), ∀ a, (k0_off3617 v5881) a + S8x128.size a ≤ S131072x128.size a := fun i v5881 k0_hw900 k0_h3 => k0_hw900.2 k0_h3

def k0_off3618 (i : grid0.Coords) : Fin 3 → Nat :=
  let c0_3666 : Index := 0#32
  let c0_3667 : Index := 0#32
  let arg1 : BitVec 32 := BitVec.ofNat 32 (i 1).val
  let c2_i32_3661 : BitVec 32 := 2#32
  let v5890 : BitVec 32 := Scalar.muli arg1 c2_i32_3661
  let c1_i32_3662 : BitVec 32 := 1#32
  let v5891 : BitVec 32 := Scalar.addi v5890 c1_i32_3662
  let c256_i32_3663 : BitVec 32 := 256#32
  let v5892 : BitVec 32 := Scalar.muli v5891 c256_i32_3663
  let c131_i32_3664 : BitVec 32 := 131#32
  let v5893 : BitVec 32 := Scalar.addi v5892 c131_i32_3664
  let v5895 : Index := Scalar.indexCast v5893
  ![0, 0, v5895.toNat]
def k0_mult1801 (v5896 : BitVec 32) : BitVec 32 :=
  v5896

def k0_mult1802 (i : grid0.Coords) : BitVec 32 :=
  let arg1 : BitVec 32 := BitVec.ofNat 32 (i 1).val
  let c2_i32_3661 : BitVec 32 := 2#32
  let v5890 : BitVec 32 := Scalar.muli arg1 c2_i32_3661
  let c1_i32_3662 : BitVec 32 := 1#32
  let v5891 : BitVec 32 := Scalar.addi v5890 c1_i32_3662
  let c256_i32_3663 : BitVec 32 := 256#32
  let v5892 : BitVec 32 := Scalar.muli v5891 c256_i32_3663
  let c131_i32_3664 : BitVec 32 := 131#32
  let v5893 : BitVec 32 := Scalar.addi v5892 c131_i32_3664
  let c8_i32_3668 : BitVec 32 := 8#32
  let v5898 : BitVec 32 := Scalar.muli v5893 c8_i32_3668
  v5898
def k0_off3619 (i : grid0.Coords) : Fin 1 → Nat :=
  let c1_i32_3665 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5894 : BitVec 32 := Scalar.subi c1_i32_3665 v9
  ![v5894.toNat]
def k0_off3620 (i : grid0.Coords) : Fin 3 → Nat :=
  let c1_i32_3665 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5894 : BitVec 32 := Scalar.subi c1_i32_3665 v9
  let arg1 : BitVec 32 := BitVec.ofNat 32 (i 1).val
  let c2_i32_3661 : BitVec 32 := 2#32
  let v5890 : BitVec 32 := Scalar.muli arg1 c2_i32_3661
  let c1_i32_3662 : BitVec 32 := 1#32
  let v5891 : BitVec 32 := Scalar.addi v5890 c1_i32_3662
  let c256_i32_3663 : BitVec 32 := 256#32
  let v5892 : BitVec 32 := Scalar.muli v5891 c256_i32_3663
  let c131_i32_3664 : BitVec 32 := 131#32
  let v5893 : BitVec 32 := Scalar.addi v5892 c131_i32_3664
  let c8_i32_3668 : BitVec 32 := 8#32
  let v5898 : BitVec 32 := Scalar.muli v5893 c8_i32_3668
  let v5899 : BitVec 32 := v5898
  let c0_i32_3669 : BitVec 32 := 0#32
  ![v5894.toNat, v5899.toNat, 0]
def k0_off3621 (v5896 : BitVec 32) : Fin 2 → Nat :=
  let v5897 : BitVec 32 := v5896
  let c0_i32_3670 : BitVec 32 := 0#32
  ![v5897.toNat, 0]

def k0_chk901 (i : grid0.Coords) (v5896 : BitVec 32) : Prop :=
  (∀ (k0_h3 : k0_cond3 i = 1#1), 8 ∣ (k0_mult1801 v5896).toNat) ∧
  (∀ (k0_h3 : k0_cond3 i = 1#1), ∀ a, (k0_off3621 v5896) a + S8x128.size a ≤ S131072x128.size a)
theorem k0_mult1801_dvd : ∀ (i : grid0.Coords) (v5896 : BitVec 32) (k0_hw901 : k0_chk901 i v5896), ∀ (k0_h3 : k0_cond3 i = 1#1), 8 ∣ (k0_mult1801 v5896).toNat := fun i v5896 k0_hw901 k0_h3 => k0_hw901.1 k0_h3
theorem k0_off3621_inb : ∀ (i : grid0.Coords) (v5896 : BitVec 32) (k0_hw901 : k0_chk901 i v5896), ∀ (k0_h3 : k0_cond3 i = 1#1), ∀ a, (k0_off3621 v5896) a + S8x128.size a ≤ S131072x128.size a := fun i v5896 k0_hw901 k0_h3 => k0_hw901.2 k0_h3

def k0_off3622 (i : grid0.Coords) : Fin 3 → Nat :=
  let c0_3676 : Index := 0#32
  let c0_3677 : Index := 0#32
  let arg1 : BitVec 32 := BitVec.ofNat 32 (i 1).val
  let c2_i32_3671 : BitVec 32 := 2#32
  let v5905 : BitVec 32 := Scalar.muli arg1 c2_i32_3671
  let c1_i32_3672 : BitVec 32 := 1#32
  let v5906 : BitVec 32 := Scalar.addi v5905 c1_i32_3672
  let c256_i32_3673 : BitVec 32 := 256#32
  let v5907 : BitVec 32 := Scalar.muli v5906 c256_i32_3673
  let c132_i32_3674 : BitVec 32 := 132#32
  let v5908 : BitVec 32 := Scalar.addi v5907 c132_i32_3674
  let v5910 : Index := Scalar.indexCast v5908
  ![0, 0, v5910.toNat]
def k0_mult1803 (v5911 : BitVec 32) : BitVec 32 :=
  v5911

def k0_mult1804 (i : grid0.Coords) : BitVec 32 :=
  let arg1 : BitVec 32 := BitVec.ofNat 32 (i 1).val
  let c2_i32_3671 : BitVec 32 := 2#32
  let v5905 : BitVec 32 := Scalar.muli arg1 c2_i32_3671
  let c1_i32_3672 : BitVec 32 := 1#32
  let v5906 : BitVec 32 := Scalar.addi v5905 c1_i32_3672
  let c256_i32_3673 : BitVec 32 := 256#32
  let v5907 : BitVec 32 := Scalar.muli v5906 c256_i32_3673
  let c132_i32_3674 : BitVec 32 := 132#32
  let v5908 : BitVec 32 := Scalar.addi v5907 c132_i32_3674
  let c8_i32_3678 : BitVec 32 := 8#32
  let v5913 : BitVec 32 := Scalar.muli v5908 c8_i32_3678
  v5913
def k0_off3623 (i : grid0.Coords) : Fin 1 → Nat :=
  let c1_i32_3675 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5909 : BitVec 32 := Scalar.subi c1_i32_3675 v9
  ![v5909.toNat]
def k0_off3624 (i : grid0.Coords) : Fin 3 → Nat :=
  let c1_i32_3675 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5909 : BitVec 32 := Scalar.subi c1_i32_3675 v9
  let arg1 : BitVec 32 := BitVec.ofNat 32 (i 1).val
  let c2_i32_3671 : BitVec 32 := 2#32
  let v5905 : BitVec 32 := Scalar.muli arg1 c2_i32_3671
  let c1_i32_3672 : BitVec 32 := 1#32
  let v5906 : BitVec 32 := Scalar.addi v5905 c1_i32_3672
  let c256_i32_3673 : BitVec 32 := 256#32
  let v5907 : BitVec 32 := Scalar.muli v5906 c256_i32_3673
  let c132_i32_3674 : BitVec 32 := 132#32
  let v5908 : BitVec 32 := Scalar.addi v5907 c132_i32_3674
  let c8_i32_3678 : BitVec 32 := 8#32
  let v5913 : BitVec 32 := Scalar.muli v5908 c8_i32_3678
  let v5914 : BitVec 32 := v5913
  let c0_i32_3679 : BitVec 32 := 0#32
  ![v5909.toNat, v5914.toNat, 0]
def k0_off3625 (v5911 : BitVec 32) : Fin 2 → Nat :=
  let v5912 : BitVec 32 := v5911
  let c0_i32_3680 : BitVec 32 := 0#32
  ![v5912.toNat, 0]

def k0_chk902 (i : grid0.Coords) (v5911 : BitVec 32) : Prop :=
  (∀ (k0_h3 : k0_cond3 i = 1#1), 8 ∣ (k0_mult1803 v5911).toNat) ∧
  (∀ (k0_h3 : k0_cond3 i = 1#1), ∀ a, (k0_off3625 v5911) a + S8x128.size a ≤ S131072x128.size a)
theorem k0_mult1803_dvd : ∀ (i : grid0.Coords) (v5911 : BitVec 32) (k0_hw902 : k0_chk902 i v5911), ∀ (k0_h3 : k0_cond3 i = 1#1), 8 ∣ (k0_mult1803 v5911).toNat := fun i v5911 k0_hw902 k0_h3 => k0_hw902.1 k0_h3
theorem k0_off3625_inb : ∀ (i : grid0.Coords) (v5911 : BitVec 32) (k0_hw902 : k0_chk902 i v5911), ∀ (k0_h3 : k0_cond3 i = 1#1), ∀ a, (k0_off3625 v5911) a + S8x128.size a ≤ S131072x128.size a := fun i v5911 k0_hw902 k0_h3 => k0_hw902.2 k0_h3

def k0_off3626 (i : grid0.Coords) : Fin 3 → Nat :=
  let c0_3686 : Index := 0#32
  let c0_3687 : Index := 0#32
  let arg1 : BitVec 32 := BitVec.ofNat 32 (i 1).val
  let c2_i32_3681 : BitVec 32 := 2#32
  let v5920 : BitVec 32 := Scalar.muli arg1 c2_i32_3681
  let c1_i32_3682 : BitVec 32 := 1#32
  let v5921 : BitVec 32 := Scalar.addi v5920 c1_i32_3682
  let c256_i32_3683 : BitVec 32 := 256#32
  let v5922 : BitVec 32 := Scalar.muli v5921 c256_i32_3683
  let c133_i32_3684 : BitVec 32 := 133#32
  let v5923 : BitVec 32 := Scalar.addi v5922 c133_i32_3684
  let v5925 : Index := Scalar.indexCast v5923
  ![0, 0, v5925.toNat]
def k0_mult1805 (v5926 : BitVec 32) : BitVec 32 :=
  v5926

def k0_mult1806 (i : grid0.Coords) : BitVec 32 :=
  let arg1 : BitVec 32 := BitVec.ofNat 32 (i 1).val
  let c2_i32_3681 : BitVec 32 := 2#32
  let v5920 : BitVec 32 := Scalar.muli arg1 c2_i32_3681
  let c1_i32_3682 : BitVec 32 := 1#32
  let v5921 : BitVec 32 := Scalar.addi v5920 c1_i32_3682
  let c256_i32_3683 : BitVec 32 := 256#32
  let v5922 : BitVec 32 := Scalar.muli v5921 c256_i32_3683
  let c133_i32_3684 : BitVec 32 := 133#32
  let v5923 : BitVec 32 := Scalar.addi v5922 c133_i32_3684
  let c8_i32_3688 : BitVec 32 := 8#32
  let v5928 : BitVec 32 := Scalar.muli v5923 c8_i32_3688
  v5928
def k0_off3627 (i : grid0.Coords) : Fin 1 → Nat :=
  let c1_i32_3685 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5924 : BitVec 32 := Scalar.subi c1_i32_3685 v9
  ![v5924.toNat]
def k0_off3628 (i : grid0.Coords) : Fin 3 → Nat :=
  let c1_i32_3685 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5924 : BitVec 32 := Scalar.subi c1_i32_3685 v9
  let arg1 : BitVec 32 := BitVec.ofNat 32 (i 1).val
  let c2_i32_3681 : BitVec 32 := 2#32
  let v5920 : BitVec 32 := Scalar.muli arg1 c2_i32_3681
  let c1_i32_3682 : BitVec 32 := 1#32
  let v5921 : BitVec 32 := Scalar.addi v5920 c1_i32_3682
  let c256_i32_3683 : BitVec 32 := 256#32
  let v5922 : BitVec 32 := Scalar.muli v5921 c256_i32_3683
  let c133_i32_3684 : BitVec 32 := 133#32
  let v5923 : BitVec 32 := Scalar.addi v5922 c133_i32_3684
  let c8_i32_3688 : BitVec 32 := 8#32
  let v5928 : BitVec 32 := Scalar.muli v5923 c8_i32_3688
  let v5929 : BitVec 32 := v5928
  let c0_i32_3689 : BitVec 32 := 0#32
  ![v5924.toNat, v5929.toNat, 0]
def k0_off3629 (v5926 : BitVec 32) : Fin 2 → Nat :=
  let v5927 : BitVec 32 := v5926
  let c0_i32_3690 : BitVec 32 := 0#32
  ![v5927.toNat, 0]

def k0_chk903 (i : grid0.Coords) (v5926 : BitVec 32) : Prop :=
  (∀ (k0_h3 : k0_cond3 i = 1#1), 8 ∣ (k0_mult1805 v5926).toNat) ∧
  (∀ (k0_h3 : k0_cond3 i = 1#1), ∀ a, (k0_off3629 v5926) a + S8x128.size a ≤ S131072x128.size a)
theorem k0_mult1805_dvd : ∀ (i : grid0.Coords) (v5926 : BitVec 32) (k0_hw903 : k0_chk903 i v5926), ∀ (k0_h3 : k0_cond3 i = 1#1), 8 ∣ (k0_mult1805 v5926).toNat := fun i v5926 k0_hw903 k0_h3 => k0_hw903.1 k0_h3
theorem k0_off3629_inb : ∀ (i : grid0.Coords) (v5926 : BitVec 32) (k0_hw903 : k0_chk903 i v5926), ∀ (k0_h3 : k0_cond3 i = 1#1), ∀ a, (k0_off3629 v5926) a + S8x128.size a ≤ S131072x128.size a := fun i v5926 k0_hw903 k0_h3 => k0_hw903.2 k0_h3

def k0_off3630 (i : grid0.Coords) : Fin 3 → Nat :=
  let c0_3696 : Index := 0#32
  let c0_3697 : Index := 0#32
  let arg1 : BitVec 32 := BitVec.ofNat 32 (i 1).val
  let c2_i32_3691 : BitVec 32 := 2#32
  let v5935 : BitVec 32 := Scalar.muli arg1 c2_i32_3691
  let c1_i32_3692 : BitVec 32 := 1#32
  let v5936 : BitVec 32 := Scalar.addi v5935 c1_i32_3692
  let c256_i32_3693 : BitVec 32 := 256#32
  let v5937 : BitVec 32 := Scalar.muli v5936 c256_i32_3693
  let c134_i32_3694 : BitVec 32 := 134#32
  let v5938 : BitVec 32 := Scalar.addi v5937 c134_i32_3694
  let v5940 : Index := Scalar.indexCast v5938
  ![0, 0, v5940.toNat]
def k0_mult1807 (v5941 : BitVec 32) : BitVec 32 :=
  v5941

def k0_mult1808 (i : grid0.Coords) : BitVec 32 :=
  let arg1 : BitVec 32 := BitVec.ofNat 32 (i 1).val
  let c2_i32_3691 : BitVec 32 := 2#32
  let v5935 : BitVec 32 := Scalar.muli arg1 c2_i32_3691
  let c1_i32_3692 : BitVec 32 := 1#32
  let v5936 : BitVec 32 := Scalar.addi v5935 c1_i32_3692
  let c256_i32_3693 : BitVec 32 := 256#32
  let v5937 : BitVec 32 := Scalar.muli v5936 c256_i32_3693
  let c134_i32_3694 : BitVec 32 := 134#32
  let v5938 : BitVec 32 := Scalar.addi v5937 c134_i32_3694
  let c8_i32_3698 : BitVec 32 := 8#32
  let v5943 : BitVec 32 := Scalar.muli v5938 c8_i32_3698
  v5943
def k0_off3631 (i : grid0.Coords) : Fin 1 → Nat :=
  let c1_i32_3695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5939 : BitVec 32 := Scalar.subi c1_i32_3695 v9
  ![v5939.toNat]
def k0_off3632 (i : grid0.Coords) : Fin 3 → Nat :=
  let c1_i32_3695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5939 : BitVec 32 := Scalar.subi c1_i32_3695 v9
  let arg1 : BitVec 32 := BitVec.ofNat 32 (i 1).val
  let c2_i32_3691 : BitVec 32 := 2#32
  let v5935 : BitVec 32 := Scalar.muli arg1 c2_i32_3691
  let c1_i32_3692 : BitVec 32 := 1#32
  let v5936 : BitVec 32 := Scalar.addi v5935 c1_i32_3692
  let c256_i32_3693 : BitVec 32 := 256#32
  let v5937 : BitVec 32 := Scalar.muli v5936 c256_i32_3693
  let c134_i32_3694 : BitVec 32 := 134#32
  let v5938 : BitVec 32 := Scalar.addi v5937 c134_i32_3694
  let c8_i32_3698 : BitVec 32 := 8#32
  let v5943 : BitVec 32 := Scalar.muli v5938 c8_i32_3698
  let v5944 : BitVec 32 := v5943
  let c0_i32_3699 : BitVec 32 := 0#32
  ![v5939.toNat, v5944.toNat, 0]
def k0_off3633 (v5941 : BitVec 32) : Fin 2 → Nat :=
  let v5942 : BitVec 32 := v5941
  let c0_i32_3700 : BitVec 32 := 0#32
  ![v5942.toNat, 0]

def k0_chk904 (i : grid0.Coords) (v5941 : BitVec 32) : Prop :=
  (∀ (k0_h3 : k0_cond3 i = 1#1), 8 ∣ (k0_mult1807 v5941).toNat) ∧
  (∀ (k0_h3 : k0_cond3 i = 1#1), ∀ a, (k0_off3633 v5941) a + S8x128.size a ≤ S131072x128.size a)
theorem k0_mult1807_dvd : ∀ (i : grid0.Coords) (v5941 : BitVec 32) (k0_hw904 : k0_chk904 i v5941), ∀ (k0_h3 : k0_cond3 i = 1#1), 8 ∣ (k0_mult1807 v5941).toNat := fun i v5941 k0_hw904 k0_h3 => k0_hw904.1 k0_h3
theorem k0_off3633_inb : ∀ (i : grid0.Coords) (v5941 : BitVec 32) (k0_hw904 : k0_chk904 i v5941), ∀ (k0_h3 : k0_cond3 i = 1#1), ∀ a, (k0_off3633 v5941) a + S8x128.size a ≤ S131072x128.size a := fun i v5941 k0_hw904 k0_h3 => k0_hw904.2 k0_h3

def k0_off3634 (i : grid0.Coords) : Fin 3 → Nat :=
  let c0_3706 : Index := 0#32
  let c0_3707 : Index := 0#32
  let arg1 : BitVec 32 := BitVec.ofNat 32 (i 1).val
  let c2_i32_3701 : BitVec 32 := 2#32
  let v5950 : BitVec 32 := Scalar.muli arg1 c2_i32_3701
  let c1_i32_3702 : BitVec 32 := 1#32
  let v5951 : BitVec 32 := Scalar.addi v5950 c1_i32_3702
  let c256_i32_3703 : BitVec 32 := 256#32
  let v5952 : BitVec 32 := Scalar.muli v5951 c256_i32_3703
  let c135_i32_3704 : BitVec 32 := 135#32
  let v5953 : BitVec 32 := Scalar.addi v5952 c135_i32_3704
  let v5955 : Index := Scalar.indexCast v5953
  ![0, 0, v5955.toNat]
def k0_mult1809 (v5956 : BitVec 32) : BitVec 32 :=
  v5956

def k0_mult1810 (i : grid0.Coords) : BitVec 32 :=
  let arg1 : BitVec 32 := BitVec.ofNat 32 (i 1).val
  let c2_i32_3701 : BitVec 32 := 2#32
  let v5950 : BitVec 32 := Scalar.muli arg1 c2_i32_3701
  let c1_i32_3702 : BitVec 32 := 1#32
  let v5951 : BitVec 32 := Scalar.addi v5950 c1_i32_3702
  let c256_i32_3703 : BitVec 32 := 256#32
  let v5952 : BitVec 32 := Scalar.muli v5951 c256_i32_3703
  let c135_i32_3704 : BitVec 32 := 135#32
  let v5953 : BitVec 32 := Scalar.addi v5952 c135_i32_3704
  let c8_i32_3708 : BitVec 32 := 8#32
  let v5958 : BitVec 32 := Scalar.muli v5953 c8_i32_3708
  v5958
def k0_off3635 (i : grid0.Coords) : Fin 1 → Nat :=
  let c1_i32_3705 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5954 : BitVec 32 := Scalar.subi c1_i32_3705 v9
  ![v5954.toNat]
def k0_off3636 (i : grid0.Coords) : Fin 3 → Nat :=
  let c1_i32_3705 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5954 : BitVec 32 := Scalar.subi c1_i32_3705 v9
  let arg1 : BitVec 32 := BitVec.ofNat 32 (i 1).val
  let c2_i32_3701 : BitVec 32 := 2#32
  let v5950 : BitVec 32 := Scalar.muli arg1 c2_i32_3701
  let c1_i32_3702 : BitVec 32 := 1#32
  let v5951 : BitVec 32 := Scalar.addi v5950 c1_i32_3702
  let c256_i32_3703 : BitVec 32 := 256#32
  let v5952 : BitVec 32 := Scalar.muli v5951 c256_i32_3703
  let c135_i32_3704 : BitVec 32 := 135#32
  let v5953 : BitVec 32 := Scalar.addi v5952 c135_i32_3704
  let c8_i32_3708 : BitVec 32 := 8#32
  let v5958 : BitVec 32 := Scalar.muli v5953 c8_i32_3708
  let v5959 : BitVec 32 := v5958
  let c0_i32_3709 : BitVec 32 := 0#32
  ![v5954.toNat, v5959.toNat, 0]
def k0_off3637 (v5956 : BitVec 32) : Fin 2 → Nat :=
  let v5957 : BitVec 32 := v5956
  let c0_i32_3710 : BitVec 32 := 0#32
  ![v5957.toNat, 0]

def k0_chk905 (i : grid0.Coords) (v5956 : BitVec 32) : Prop :=
  (∀ (k0_h3 : k0_cond3 i = 1#1), 8 ∣ (k0_mult1809 v5956).toNat) ∧
  (∀ (k0_h3 : k0_cond3 i = 1#1), ∀ a, (k0_off3637 v5956) a + S8x128.size a ≤ S131072x128.size a)
theorem k0_mult1809_dvd : ∀ (i : grid0.Coords) (v5956 : BitVec 32) (k0_hw905 : k0_chk905 i v5956), ∀ (k0_h3 : k0_cond3 i = 1#1), 8 ∣ (k0_mult1809 v5956).toNat := fun i v5956 k0_hw905 k0_h3 => k0_hw905.1 k0_h3
theorem k0_off3637_inb : ∀ (i : grid0.Coords) (v5956 : BitVec 32) (k0_hw905 : k0_chk905 i v5956), ∀ (k0_h3 : k0_cond3 i = 1#1), ∀ a, (k0_off3637 v5956) a + S8x128.size a ≤ S131072x128.size a := fun i v5956 k0_hw905 k0_h3 => k0_hw905.2 k0_h3

def k0_off3638 (i : grid0.Coords) : Fin 3 → Nat :=
  let c0_3716 : Index := 0#32
  let c0_3717 : Index := 0#32
  let arg1 : BitVec 32 := BitVec.ofNat 32 (i 1).val
  let c2_i32_3711 : BitVec 32 := 2#32
  let v5965 : BitVec 32 := Scalar.muli arg1 c2_i32_3711
  let c1_i32_3712 : BitVec 32 := 1#32
  let v5966 : BitVec 32 := Scalar.addi v5965 c1_i32_3712
  let c256_i32_3713 : BitVec 32 := 256#32
  let v5967 : BitVec 32 := Scalar.muli v5966 c256_i32_3713
  let c136_i32_3714 : BitVec 32 := 136#32
  let v5968 : BitVec 32 := Scalar.addi v5967 c136_i32_3714
  let v5970 : Index := Scalar.indexCast v5968
  ![0, 0, v5970.toNat]
def k0_mult1811 (v5971 : BitVec 32) : BitVec 32 :=
  v5971

def k0_mult1812 (i : grid0.Coords) : BitVec 32 :=
  let arg1 : BitVec 32 := BitVec.ofNat 32 (i 1).val
  let c2_i32_3711 : BitVec 32 := 2#32
  let v5965 : BitVec 32 := Scalar.muli arg1 c2_i32_3711
  let c1_i32_3712 : BitVec 32 := 1#32
  let v5966 : BitVec 32 := Scalar.addi v5965 c1_i32_3712
  let c256_i32_3713 : BitVec 32 := 256#32
  let v5967 : BitVec 32 := Scalar.muli v5966 c256_i32_3713
  let c136_i32_3714 : BitVec 32 := 136#32
  let v5968 : BitVec 32 := Scalar.addi v5967 c136_i32_3714
  let c8_i32_3718 : BitVec 32 := 8#32
  let v5973 : BitVec 32 := Scalar.muli v5968 c8_i32_3718
  v5973
def k0_off3639 (i : grid0.Coords) : Fin 1 → Nat :=
  let c1_i32_3715 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5969 : BitVec 32 := Scalar.subi c1_i32_3715 v9
  ![v5969.toNat]
def k0_off3640 (i : grid0.Coords) : Fin 3 → Nat :=
  let c1_i32_3715 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5969 : BitVec 32 := Scalar.subi c1_i32_3715 v9
  let arg1 : BitVec 32 := BitVec.ofNat 32 (i 1).val
  let c2_i32_3711 : BitVec 32 := 2#32
  let v5965 : BitVec 32 := Scalar.muli arg1 c2_i32_3711
  let c1_i32_3712 : BitVec 32 := 1#32
  let v5966 : BitVec 32 := Scalar.addi v5965 c1_i32_3712
  let c256_i32_3713 : BitVec 32 := 256#32
  let v5967 : BitVec 32 := Scalar.muli v5966 c256_i32_3713
  let c136_i32_3714 : BitVec 32 := 136#32
  let v5968 : BitVec 32 := Scalar.addi v5967 c136_i32_3714
  let c8_i32_3718 : BitVec 32 := 8#32
  let v5973 : BitVec 32 := Scalar.muli v5968 c8_i32_3718
  let v5974 : BitVec 32 := v5973
  let c0_i32_3719 : BitVec 32 := 0#32
  ![v5969.toNat, v5974.toNat, 0]
def k0_off3641 (v5971 : BitVec 32) : Fin 2 → Nat :=
  let v5972 : BitVec 32 := v5971
  let c0_i32_3720 : BitVec 32 := 0#32
  ![v5972.toNat, 0]

def k0_chk906 (i : grid0.Coords) (v5971 : BitVec 32) : Prop :=
  (∀ (k0_h3 : k0_cond3 i = 1#1), 8 ∣ (k0_mult1811 v5971).toNat) ∧
  (∀ (k0_h3 : k0_cond3 i = 1#1), ∀ a, (k0_off3641 v5971) a + S8x128.size a ≤ S131072x128.size a)
theorem k0_mult1811_dvd : ∀ (i : grid0.Coords) (v5971 : BitVec 32) (k0_hw906 : k0_chk906 i v5971), ∀ (k0_h3 : k0_cond3 i = 1#1), 8 ∣ (k0_mult1811 v5971).toNat := fun i v5971 k0_hw906 k0_h3 => k0_hw906.1 k0_h3
theorem k0_off3641_inb : ∀ (i : grid0.Coords) (v5971 : BitVec 32) (k0_hw906 : k0_chk906 i v5971), ∀ (k0_h3 : k0_cond3 i = 1#1), ∀ a, (k0_off3641 v5971) a + S8x128.size a ≤ S131072x128.size a := fun i v5971 k0_hw906 k0_h3 => k0_hw906.2 k0_h3

def k0_off3642 (i : grid0.Coords) : Fin 3 → Nat :=
  let c0_3726 : Index := 0#32
  let c0_3727 : Index := 0#32
  let arg1 : BitVec 32 := BitVec.ofNat 32 (i 1).val
  let c2_i32_3721 : BitVec 32 := 2#32
  let v5980 : BitVec 32 := Scalar.muli arg1 c2_i32_3721
  let c1_i32_3722 : BitVec 32 := 1#32
  let v5981 : BitVec 32 := Scalar.addi v5980 c1_i32_3722
  let c256_i32_3723 : BitVec 32 := 256#32
  let v5982 : BitVec 32 := Scalar.muli v5981 c256_i32_3723
  let c137_i32_3724 : BitVec 32 := 137#32
  let v5983 : BitVec 32 := Scalar.addi v5982 c137_i32_3724
  let v5985 : Index := Scalar.indexCast v5983
  ![0, 0, v5985.toNat]
def k0_mult1813 (v5986 : BitVec 32) : BitVec 32 :=
  v5986

def k0_mult1814 (i : grid0.Coords) : BitVec 32 :=
  let arg1 : BitVec 32 := BitVec.ofNat 32 (i 1).val
  let c2_i32_3721 : BitVec 32 := 2#32
  let v5980 : BitVec 32 := Scalar.muli arg1 c2_i32_3721
  let c1_i32_3722 : BitVec 32 := 1#32
  let v5981 : BitVec 32 := Scalar.addi v5980 c1_i32_3722
  let c256_i32_3723 : BitVec 32 := 256#32
  let v5982 : BitVec 32 := Scalar.muli v5981 c256_i32_3723
  let c137_i32_3724 : BitVec 32 := 137#32
  let v5983 : BitVec 32 := Scalar.addi v5982 c137_i32_3724
  let c8_i32_3728 : BitVec 32 := 8#32
  let v5988 : BitVec 32 := Scalar.muli v5983 c8_i32_3728
  v5988
def k0_off3643 (i : grid0.Coords) : Fin 1 → Nat :=
  let c1_i32_3725 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5984 : BitVec 32 := Scalar.subi c1_i32_3725 v9
  ![v5984.toNat]
def k0_off3644 (i : grid0.Coords) : Fin 3 → Nat :=
  let c1_i32_3725 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5984 : BitVec 32 := Scalar.subi c1_i32_3725 v9
  let arg1 : BitVec 32 := BitVec.ofNat 32 (i 1).val
  let c2_i32_3721 : BitVec 32 := 2#32
  let v5980 : BitVec 32 := Scalar.muli arg1 c2_i32_3721
  let c1_i32_3722 : BitVec 32 := 1#32
  let v5981 : BitVec 32 := Scalar.addi v5980 c1_i32_3722
  let c256_i32_3723 : BitVec 32 := 256#32
  let v5982 : BitVec 32 := Scalar.muli v5981 c256_i32_3723
  let c137_i32_3724 : BitVec 32 := 137#32
  let v5983 : BitVec 32 := Scalar.addi v5982 c137_i32_3724
  let c8_i32_3728 : BitVec 32 := 8#32
  let v5988 : BitVec 32 := Scalar.muli v5983 c8_i32_3728
  let v5989 : BitVec 32 := v5988
  let c0_i32_3729 : BitVec 32 := 0#32
  ![v5984.toNat, v5989.toNat, 0]
def k0_off3645 (v5986 : BitVec 32) : Fin 2 → Nat :=
  let v5987 : BitVec 32 := v5986
  let c0_i32_3730 : BitVec 32 := 0#32
  ![v5987.toNat, 0]

def k0_chk907 (i : grid0.Coords) (v5986 : BitVec 32) : Prop :=
  (∀ (k0_h3 : k0_cond3 i = 1#1), 8 ∣ (k0_mult1813 v5986).toNat) ∧
  (∀ (k0_h3 : k0_cond3 i = 1#1), ∀ a, (k0_off3645 v5986) a + S8x128.size a ≤ S131072x128.size a)
theorem k0_mult1813_dvd : ∀ (i : grid0.Coords) (v5986 : BitVec 32) (k0_hw907 : k0_chk907 i v5986), ∀ (k0_h3 : k0_cond3 i = 1#1), 8 ∣ (k0_mult1813 v5986).toNat := fun i v5986 k0_hw907 k0_h3 => k0_hw907.1 k0_h3
theorem k0_off3645_inb : ∀ (i : grid0.Coords) (v5986 : BitVec 32) (k0_hw907 : k0_chk907 i v5986), ∀ (k0_h3 : k0_cond3 i = 1#1), ∀ a, (k0_off3645 v5986) a + S8x128.size a ≤ S131072x128.size a := fun i v5986 k0_hw907 k0_h3 => k0_hw907.2 k0_h3

def k0_off3646 (i : grid0.Coords) : Fin 3 → Nat :=
  let c0_3736 : Index := 0#32
  let c0_3737 : Index := 0#32
  let arg1 : BitVec 32 := BitVec.ofNat 32 (i 1).val
  let c2_i32_3731 : BitVec 32 := 2#32
  let v5995 : BitVec 32 := Scalar.muli arg1 c2_i32_3731
  let c1_i32_3732 : BitVec 32 := 1#32
  let v5996 : BitVec 32 := Scalar.addi v5995 c1_i32_3732
  let c256_i32_3733 : BitVec 32 := 256#32
  let v5997 : BitVec 32 := Scalar.muli v5996 c256_i32_3733
  let c138_i32_3734 : BitVec 32 := 138#32
  let v5998 : BitVec 32 := Scalar.addi v5997 c138_i32_3734
  let v6000 : Index := Scalar.indexCast v5998
  ![0, 0, v6000.toNat]
def k0_mult1815 (v6001 : BitVec 32) : BitVec 32 :=
  v6001

def k0_mult1816 (i : grid0.Coords) : BitVec 32 :=
  let arg1 : BitVec 32 := BitVec.ofNat 32 (i 1).val
  let c2_i32_3731 : BitVec 32 := 2#32
  let v5995 : BitVec 32 := Scalar.muli arg1 c2_i32_3731
  let c1_i32_3732 : BitVec 32 := 1#32
  let v5996 : BitVec 32 := Scalar.addi v5995 c1_i32_3732
  let c256_i32_3733 : BitVec 32 := 256#32
  let v5997 : BitVec 32 := Scalar.muli v5996 c256_i32_3733
  let c138_i32_3734 : BitVec 32 := 138#32
  let v5998 : BitVec 32 := Scalar.addi v5997 c138_i32_3734
  let c8_i32_3738 : BitVec 32 := 8#32
  let v6003 : BitVec 32 := Scalar.muli v5998 c8_i32_3738
  v6003
def k0_off3647 (i : grid0.Coords) : Fin 1 → Nat :=
  let c1_i32_3735 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5999 : BitVec 32 := Scalar.subi c1_i32_3735 v9
  ![v5999.toNat]
def k0_off3648 (i : grid0.Coords) : Fin 3 → Nat :=
  let c1_i32_3735 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v5999 : BitVec 32 := Scalar.subi c1_i32_3735 v9
  let arg1 : BitVec 32 := BitVec.ofNat 32 (i 1).val
  let c2_i32_3731 : BitVec 32 := 2#32
  let v5995 : BitVec 32 := Scalar.muli arg1 c2_i32_3731
  let c1_i32_3732 : BitVec 32 := 1#32
  let v5996 : BitVec 32 := Scalar.addi v5995 c1_i32_3732
  let c256_i32_3733 : BitVec 32 := 256#32
  let v5997 : BitVec 32 := Scalar.muli v5996 c256_i32_3733
  let c138_i32_3734 : BitVec 32 := 138#32
  let v5998 : BitVec 32 := Scalar.addi v5997 c138_i32_3734
  let c8_i32_3738 : BitVec 32 := 8#32
  let v6003 : BitVec 32 := Scalar.muli v5998 c8_i32_3738
  let v6004 : BitVec 32 := v6003
  let c0_i32_3739 : BitVec 32 := 0#32
  ![v5999.toNat, v6004.toNat, 0]
def k0_off3649 (v6001 : BitVec 32) : Fin 2 → Nat :=
  let v6002 : BitVec 32 := v6001
  let c0_i32_3740 : BitVec 32 := 0#32
  ![v6002.toNat, 0]

def k0_chk908 (i : grid0.Coords) (v6001 : BitVec 32) : Prop :=
  (∀ (k0_h3 : k0_cond3 i = 1#1), 8 ∣ (k0_mult1815 v6001).toNat) ∧
  (∀ (k0_h3 : k0_cond3 i = 1#1), ∀ a, (k0_off3649 v6001) a + S8x128.size a ≤ S131072x128.size a)
theorem k0_mult1815_dvd : ∀ (i : grid0.Coords) (v6001 : BitVec 32) (k0_hw908 : k0_chk908 i v6001), ∀ (k0_h3 : k0_cond3 i = 1#1), 8 ∣ (k0_mult1815 v6001).toNat := fun i v6001 k0_hw908 k0_h3 => k0_hw908.1 k0_h3
theorem k0_off3649_inb : ∀ (i : grid0.Coords) (v6001 : BitVec 32) (k0_hw908 : k0_chk908 i v6001), ∀ (k0_h3 : k0_cond3 i = 1#1), ∀ a, (k0_off3649 v6001) a + S8x128.size a ≤ S131072x128.size a := fun i v6001 k0_hw908 k0_h3 => k0_hw908.2 k0_h3

def k0_off3650 (i : grid0.Coords) : Fin 3 → Nat :=
  let c0_3746 : Index := 0#32
  let c0_3747 : Index := 0#32
  let arg1 : BitVec 32 := BitVec.ofNat 32 (i 1).val
  let c2_i32_3741 : BitVec 32 := 2#32
  let v6010 : BitVec 32 := Scalar.muli arg1 c2_i32_3741
  let c1_i32_3742 : BitVec 32 := 1#32
  let v6011 : BitVec 32 := Scalar.addi v6010 c1_i32_3742
  let c256_i32_3743 : BitVec 32 := 256#32
  let v6012 : BitVec 32 := Scalar.muli v6011 c256_i32_3743
  let c139_i32_3744 : BitVec 32 := 139#32
  let v6013 : BitVec 32 := Scalar.addi v6012 c139_i32_3744
  let v6015 : Index := Scalar.indexCast v6013
  ![0, 0, v6015.toNat]
def k0_mult1817 (v6016 : BitVec 32) : BitVec 32 :=
  v6016

def k0_mult1818 (i : grid0.Coords) : BitVec 32 :=
  let arg1 : BitVec 32 := BitVec.ofNat 32 (i 1).val
  let c2_i32_3741 : BitVec 32 := 2#32
  let v6010 : BitVec 32 := Scalar.muli arg1 c2_i32_3741
  let c1_i32_3742 : BitVec 32 := 1#32
  let v6011 : BitVec 32 := Scalar.addi v6010 c1_i32_3742
  let c256_i32_3743 : BitVec 32 := 256#32
  let v6012 : BitVec 32 := Scalar.muli v6011 c256_i32_3743
  let c139_i32_3744 : BitVec 32 := 139#32
  let v6013 : BitVec 32 := Scalar.addi v6012 c139_i32_3744
  let c8_i32_3748 : BitVec 32 := 8#32
  let v6018 : BitVec 32 := Scalar.muli v6013 c8_i32_3748
  v6018
def k0_off3651 (i : grid0.Coords) : Fin 1 → Nat :=
  let c1_i32_3745 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6014 : BitVec 32 := Scalar.subi c1_i32_3745 v9
  ![v6014.toNat]
def k0_off3652 (i : grid0.Coords) : Fin 3 → Nat :=
  let c1_i32_3745 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6014 : BitVec 32 := Scalar.subi c1_i32_3745 v9
  let arg1 : BitVec 32 := BitVec.ofNat 32 (i 1).val
  let c2_i32_3741 : BitVec 32 := 2#32
  let v6010 : BitVec 32 := Scalar.muli arg1 c2_i32_3741
  let c1_i32_3742 : BitVec 32 := 1#32
  let v6011 : BitVec 32 := Scalar.addi v6010 c1_i32_3742
  let c256_i32_3743 : BitVec 32 := 256#32
  let v6012 : BitVec 32 := Scalar.muli v6011 c256_i32_3743
  let c139_i32_3744 : BitVec 32 := 139#32
  let v6013 : BitVec 32 := Scalar.addi v6012 c139_i32_3744
  let c8_i32_3748 : BitVec 32 := 8#32
  let v6018 : BitVec 32 := Scalar.muli v6013 c8_i32_3748
  let v6019 : BitVec 32 := v6018
  let c0_i32_3749 : BitVec 32 := 0#32
  ![v6014.toNat, v6019.toNat, 0]
def k0_off3653 (v6016 : BitVec 32) : Fin 2 → Nat :=
  let v6017 : BitVec 32 := v6016
  let c0_i32_3750 : BitVec 32 := 0#32
  ![v6017.toNat, 0]

def k0_chk909 (i : grid0.Coords) (v6016 : BitVec 32) : Prop :=
  (∀ (k0_h3 : k0_cond3 i = 1#1), 8 ∣ (k0_mult1817 v6016).toNat) ∧
  (∀ (k0_h3 : k0_cond3 i = 1#1), ∀ a, (k0_off3653 v6016) a + S8x128.size a ≤ S131072x128.size a)
theorem k0_mult1817_dvd : ∀ (i : grid0.Coords) (v6016 : BitVec 32) (k0_hw909 : k0_chk909 i v6016), ∀ (k0_h3 : k0_cond3 i = 1#1), 8 ∣ (k0_mult1817 v6016).toNat := fun i v6016 k0_hw909 k0_h3 => k0_hw909.1 k0_h3
theorem k0_off3653_inb : ∀ (i : grid0.Coords) (v6016 : BitVec 32) (k0_hw909 : k0_chk909 i v6016), ∀ (k0_h3 : k0_cond3 i = 1#1), ∀ a, (k0_off3653 v6016) a + S8x128.size a ≤ S131072x128.size a := fun i v6016 k0_hw909 k0_h3 => k0_hw909.2 k0_h3

def k0_off3654 (i : grid0.Coords) : Fin 3 → Nat :=
  let c0_3756 : Index := 0#32
  let c0_3757 : Index := 0#32
  let arg1 : BitVec 32 := BitVec.ofNat 32 (i 1).val
  let c2_i32_3751 : BitVec 32 := 2#32
  let v6025 : BitVec 32 := Scalar.muli arg1 c2_i32_3751
  let c1_i32_3752 : BitVec 32 := 1#32
  let v6026 : BitVec 32 := Scalar.addi v6025 c1_i32_3752
  let c256_i32_3753 : BitVec 32 := 256#32
  let v6027 : BitVec 32 := Scalar.muli v6026 c256_i32_3753
  let c140_i32_3754 : BitVec 32 := 140#32
  let v6028 : BitVec 32 := Scalar.addi v6027 c140_i32_3754
  let v6030 : Index := Scalar.indexCast v6028
  ![0, 0, v6030.toNat]
def k0_mult1819 (v6031 : BitVec 32) : BitVec 32 :=
  v6031

def k0_mult1820 (i : grid0.Coords) : BitVec 32 :=
  let arg1 : BitVec 32 := BitVec.ofNat 32 (i 1).val
  let c2_i32_3751 : BitVec 32 := 2#32
  let v6025 : BitVec 32 := Scalar.muli arg1 c2_i32_3751
  let c1_i32_3752 : BitVec 32 := 1#32
  let v6026 : BitVec 32 := Scalar.addi v6025 c1_i32_3752
  let c256_i32_3753 : BitVec 32 := 256#32
  let v6027 : BitVec 32 := Scalar.muli v6026 c256_i32_3753
  let c140_i32_3754 : BitVec 32 := 140#32
  let v6028 : BitVec 32 := Scalar.addi v6027 c140_i32_3754
  let c8_i32_3758 : BitVec 32 := 8#32
  let v6033 : BitVec 32 := Scalar.muli v6028 c8_i32_3758
  v6033
def k0_off3655 (i : grid0.Coords) : Fin 1 → Nat :=
  let c1_i32_3755 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6029 : BitVec 32 := Scalar.subi c1_i32_3755 v9
  ![v6029.toNat]
def k0_off3656 (i : grid0.Coords) : Fin 3 → Nat :=
  let c1_i32_3755 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6029 : BitVec 32 := Scalar.subi c1_i32_3755 v9
  let arg1 : BitVec 32 := BitVec.ofNat 32 (i 1).val
  let c2_i32_3751 : BitVec 32 := 2#32
  let v6025 : BitVec 32 := Scalar.muli arg1 c2_i32_3751
  let c1_i32_3752 : BitVec 32 := 1#32
  let v6026 : BitVec 32 := Scalar.addi v6025 c1_i32_3752
  let c256_i32_3753 : BitVec 32 := 256#32
  let v6027 : BitVec 32 := Scalar.muli v6026 c256_i32_3753
  let c140_i32_3754 : BitVec 32 := 140#32
  let v6028 : BitVec 32 := Scalar.addi v6027 c140_i32_3754
  let c8_i32_3758 : BitVec 32 := 8#32
  let v6033 : BitVec 32 := Scalar.muli v6028 c8_i32_3758
  let v6034 : BitVec 32 := v6033
  let c0_i32_3759 : BitVec 32 := 0#32
  ![v6029.toNat, v6034.toNat, 0]
def k0_off3657 (v6031 : BitVec 32) : Fin 2 → Nat :=
  let v6032 : BitVec 32 := v6031
  let c0_i32_3760 : BitVec 32 := 0#32
  ![v6032.toNat, 0]

def k0_chk910 (i : grid0.Coords) (v6031 : BitVec 32) : Prop :=
  (∀ (k0_h3 : k0_cond3 i = 1#1), 8 ∣ (k0_mult1819 v6031).toNat) ∧
  (∀ (k0_h3 : k0_cond3 i = 1#1), ∀ a, (k0_off3657 v6031) a + S8x128.size a ≤ S131072x128.size a)
theorem k0_mult1819_dvd : ∀ (i : grid0.Coords) (v6031 : BitVec 32) (k0_hw910 : k0_chk910 i v6031), ∀ (k0_h3 : k0_cond3 i = 1#1), 8 ∣ (k0_mult1819 v6031).toNat := fun i v6031 k0_hw910 k0_h3 => k0_hw910.1 k0_h3
theorem k0_off3657_inb : ∀ (i : grid0.Coords) (v6031 : BitVec 32) (k0_hw910 : k0_chk910 i v6031), ∀ (k0_h3 : k0_cond3 i = 1#1), ∀ a, (k0_off3657 v6031) a + S8x128.size a ≤ S131072x128.size a := fun i v6031 k0_hw910 k0_h3 => k0_hw910.2 k0_h3

def k0_off3658 (i : grid0.Coords) : Fin 3 → Nat :=
  let c0_3766 : Index := 0#32
  let c0_3767 : Index := 0#32
  let arg1 : BitVec 32 := BitVec.ofNat 32 (i 1).val
  let c2_i32_3761 : BitVec 32 := 2#32
  let v6040 : BitVec 32 := Scalar.muli arg1 c2_i32_3761
  let c1_i32_3762 : BitVec 32 := 1#32
  let v6041 : BitVec 32 := Scalar.addi v6040 c1_i32_3762
  let c256_i32_3763 : BitVec 32 := 256#32
  let v6042 : BitVec 32 := Scalar.muli v6041 c256_i32_3763
  let c141_i32_3764 : BitVec 32 := 141#32
  let v6043 : BitVec 32 := Scalar.addi v6042 c141_i32_3764
  let v6045 : Index := Scalar.indexCast v6043
  ![0, 0, v6045.toNat]
def k0_mult1821 (v6046 : BitVec 32) : BitVec 32 :=
  v6046

def k0_mult1822 (i : grid0.Coords) : BitVec 32 :=
  let arg1 : BitVec 32 := BitVec.ofNat 32 (i 1).val
  let c2_i32_3761 : BitVec 32 := 2#32
  let v6040 : BitVec 32 := Scalar.muli arg1 c2_i32_3761
  let c1_i32_3762 : BitVec 32 := 1#32
  let v6041 : BitVec 32 := Scalar.addi v6040 c1_i32_3762
  let c256_i32_3763 : BitVec 32 := 256#32
  let v6042 : BitVec 32 := Scalar.muli v6041 c256_i32_3763
  let c141_i32_3764 : BitVec 32 := 141#32
  let v6043 : BitVec 32 := Scalar.addi v6042 c141_i32_3764
  let c8_i32_3768 : BitVec 32 := 8#32
  let v6048 : BitVec 32 := Scalar.muli v6043 c8_i32_3768
  v6048
def k0_off3659 (i : grid0.Coords) : Fin 1 → Nat :=
  let c1_i32_3765 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6044 : BitVec 32 := Scalar.subi c1_i32_3765 v9
  ![v6044.toNat]
def k0_off3660 (i : grid0.Coords) : Fin 3 → Nat :=
  let c1_i32_3765 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6044 : BitVec 32 := Scalar.subi c1_i32_3765 v9
  let arg1 : BitVec 32 := BitVec.ofNat 32 (i 1).val
  let c2_i32_3761 : BitVec 32 := 2#32
  let v6040 : BitVec 32 := Scalar.muli arg1 c2_i32_3761
  let c1_i32_3762 : BitVec 32 := 1#32
  let v6041 : BitVec 32 := Scalar.addi v6040 c1_i32_3762
  let c256_i32_3763 : BitVec 32 := 256#32
  let v6042 : BitVec 32 := Scalar.muli v6041 c256_i32_3763
  let c141_i32_3764 : BitVec 32 := 141#32
  let v6043 : BitVec 32 := Scalar.addi v6042 c141_i32_3764
  let c8_i32_3768 : BitVec 32 := 8#32
  let v6048 : BitVec 32 := Scalar.muli v6043 c8_i32_3768
  let v6049 : BitVec 32 := v6048
  let c0_i32_3769 : BitVec 32 := 0#32
  ![v6044.toNat, v6049.toNat, 0]
def k0_off3661 (v6046 : BitVec 32) : Fin 2 → Nat :=
  let v6047 : BitVec 32 := v6046
  let c0_i32_3770 : BitVec 32 := 0#32
  ![v6047.toNat, 0]

def k0_chk911 (i : grid0.Coords) (v6046 : BitVec 32) : Prop :=
  (∀ (k0_h3 : k0_cond3 i = 1#1), 8 ∣ (k0_mult1821 v6046).toNat) ∧
  (∀ (k0_h3 : k0_cond3 i = 1#1), ∀ a, (k0_off3661 v6046) a + S8x128.size a ≤ S131072x128.size a)
theorem k0_mult1821_dvd : ∀ (i : grid0.Coords) (v6046 : BitVec 32) (k0_hw911 : k0_chk911 i v6046), ∀ (k0_h3 : k0_cond3 i = 1#1), 8 ∣ (k0_mult1821 v6046).toNat := fun i v6046 k0_hw911 k0_h3 => k0_hw911.1 k0_h3
theorem k0_off3661_inb : ∀ (i : grid0.Coords) (v6046 : BitVec 32) (k0_hw911 : k0_chk911 i v6046), ∀ (k0_h3 : k0_cond3 i = 1#1), ∀ a, (k0_off3661 v6046) a + S8x128.size a ≤ S131072x128.size a := fun i v6046 k0_hw911 k0_h3 => k0_hw911.2 k0_h3

def k0_off3662 (i : grid0.Coords) : Fin 3 → Nat :=
  let c0_3776 : Index := 0#32
  let c0_3777 : Index := 0#32
  let arg1 : BitVec 32 := BitVec.ofNat 32 (i 1).val
  let c2_i32_3771 : BitVec 32 := 2#32
  let v6055 : BitVec 32 := Scalar.muli arg1 c2_i32_3771
  let c1_i32_3772 : BitVec 32 := 1#32
  let v6056 : BitVec 32 := Scalar.addi v6055 c1_i32_3772
  let c256_i32_3773 : BitVec 32 := 256#32
  let v6057 : BitVec 32 := Scalar.muli v6056 c256_i32_3773
  let c142_i32_3774 : BitVec 32 := 142#32
  let v6058 : BitVec 32 := Scalar.addi v6057 c142_i32_3774
  let v6060 : Index := Scalar.indexCast v6058
  ![0, 0, v6060.toNat]
def k0_mult1823 (v6061 : BitVec 32) : BitVec 32 :=
  v6061

def k0_mult1824 (i : grid0.Coords) : BitVec 32 :=
  let arg1 : BitVec 32 := BitVec.ofNat 32 (i 1).val
  let c2_i32_3771 : BitVec 32 := 2#32
  let v6055 : BitVec 32 := Scalar.muli arg1 c2_i32_3771
  let c1_i32_3772 : BitVec 32 := 1#32
  let v6056 : BitVec 32 := Scalar.addi v6055 c1_i32_3772
  let c256_i32_3773 : BitVec 32 := 256#32
  let v6057 : BitVec 32 := Scalar.muli v6056 c256_i32_3773
  let c142_i32_3774 : BitVec 32 := 142#32
  let v6058 : BitVec 32 := Scalar.addi v6057 c142_i32_3774
  let c8_i32_3778 : BitVec 32 := 8#32
  let v6063 : BitVec 32 := Scalar.muli v6058 c8_i32_3778
  v6063
def k0_off3663 (i : grid0.Coords) : Fin 1 → Nat :=
  let c1_i32_3775 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6059 : BitVec 32 := Scalar.subi c1_i32_3775 v9
  ![v6059.toNat]
def k0_off3664 (i : grid0.Coords) : Fin 3 → Nat :=
  let c1_i32_3775 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6059 : BitVec 32 := Scalar.subi c1_i32_3775 v9
  let arg1 : BitVec 32 := BitVec.ofNat 32 (i 1).val
  let c2_i32_3771 : BitVec 32 := 2#32
  let v6055 : BitVec 32 := Scalar.muli arg1 c2_i32_3771
  let c1_i32_3772 : BitVec 32 := 1#32
  let v6056 : BitVec 32 := Scalar.addi v6055 c1_i32_3772
  let c256_i32_3773 : BitVec 32 := 256#32
  let v6057 : BitVec 32 := Scalar.muli v6056 c256_i32_3773
  let c142_i32_3774 : BitVec 32 := 142#32
  let v6058 : BitVec 32 := Scalar.addi v6057 c142_i32_3774
  let c8_i32_3778 : BitVec 32 := 8#32
  let v6063 : BitVec 32 := Scalar.muli v6058 c8_i32_3778
  let v6064 : BitVec 32 := v6063
  let c0_i32_3779 : BitVec 32 := 0#32
  ![v6059.toNat, v6064.toNat, 0]
def k0_off3665 (v6061 : BitVec 32) : Fin 2 → Nat :=
  let v6062 : BitVec 32 := v6061
  let c0_i32_3780 : BitVec 32 := 0#32
  ![v6062.toNat, 0]

def k0_chk912 (i : grid0.Coords) (v6061 : BitVec 32) : Prop :=
  (∀ (k0_h3 : k0_cond3 i = 1#1), 8 ∣ (k0_mult1823 v6061).toNat) ∧
  (∀ (k0_h3 : k0_cond3 i = 1#1), ∀ a, (k0_off3665 v6061) a + S8x128.size a ≤ S131072x128.size a)
theorem k0_mult1823_dvd : ∀ (i : grid0.Coords) (v6061 : BitVec 32) (k0_hw912 : k0_chk912 i v6061), ∀ (k0_h3 : k0_cond3 i = 1#1), 8 ∣ (k0_mult1823 v6061).toNat := fun i v6061 k0_hw912 k0_h3 => k0_hw912.1 k0_h3
theorem k0_off3665_inb : ∀ (i : grid0.Coords) (v6061 : BitVec 32) (k0_hw912 : k0_chk912 i v6061), ∀ (k0_h3 : k0_cond3 i = 1#1), ∀ a, (k0_off3665 v6061) a + S8x128.size a ≤ S131072x128.size a := fun i v6061 k0_hw912 k0_h3 => k0_hw912.2 k0_h3

def k0_off3666 (i : grid0.Coords) : Fin 3 → Nat :=
  let c0_3786 : Index := 0#32
  let c0_3787 : Index := 0#32
  let arg1 : BitVec 32 := BitVec.ofNat 32 (i 1).val
  let c2_i32_3781 : BitVec 32 := 2#32
  let v6070 : BitVec 32 := Scalar.muli arg1 c2_i32_3781
  let c1_i32_3782 : BitVec 32 := 1#32
  let v6071 : BitVec 32 := Scalar.addi v6070 c1_i32_3782
  let c256_i32_3783 : BitVec 32 := 256#32
  let v6072 : BitVec 32 := Scalar.muli v6071 c256_i32_3783
  let c143_i32_3784 : BitVec 32 := 143#32
  let v6073 : BitVec 32 := Scalar.addi v6072 c143_i32_3784
  let v6075 : Index := Scalar.indexCast v6073
  ![0, 0, v6075.toNat]
def k0_mult1825 (v6076 : BitVec 32) : BitVec 32 :=
  v6076

def k0_mult1826 (i : grid0.Coords) : BitVec 32 :=
  let arg1 : BitVec 32 := BitVec.ofNat 32 (i 1).val
  let c2_i32_3781 : BitVec 32 := 2#32
  let v6070 : BitVec 32 := Scalar.muli arg1 c2_i32_3781
  let c1_i32_3782 : BitVec 32 := 1#32
  let v6071 : BitVec 32 := Scalar.addi v6070 c1_i32_3782
  let c256_i32_3783 : BitVec 32 := 256#32
  let v6072 : BitVec 32 := Scalar.muli v6071 c256_i32_3783
  let c143_i32_3784 : BitVec 32 := 143#32
  let v6073 : BitVec 32 := Scalar.addi v6072 c143_i32_3784
  let c8_i32_3788 : BitVec 32 := 8#32
  let v6078 : BitVec 32 := Scalar.muli v6073 c8_i32_3788
  v6078
def k0_off3667 (i : grid0.Coords) : Fin 1 → Nat :=
  let c1_i32_3785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6074 : BitVec 32 := Scalar.subi c1_i32_3785 v9
  ![v6074.toNat]
def k0_off3668 (i : grid0.Coords) : Fin 3 → Nat :=
  let c1_i32_3785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6074 : BitVec 32 := Scalar.subi c1_i32_3785 v9
  let arg1 : BitVec 32 := BitVec.ofNat 32 (i 1).val
  let c2_i32_3781 : BitVec 32 := 2#32
  let v6070 : BitVec 32 := Scalar.muli arg1 c2_i32_3781
  let c1_i32_3782 : BitVec 32 := 1#32
  let v6071 : BitVec 32 := Scalar.addi v6070 c1_i32_3782
  let c256_i32_3783 : BitVec 32 := 256#32
  let v6072 : BitVec 32 := Scalar.muli v6071 c256_i32_3783
  let c143_i32_3784 : BitVec 32 := 143#32
  let v6073 : BitVec 32 := Scalar.addi v6072 c143_i32_3784
  let c8_i32_3788 : BitVec 32 := 8#32
  let v6078 : BitVec 32 := Scalar.muli v6073 c8_i32_3788
  let v6079 : BitVec 32 := v6078
  let c0_i32_3789 : BitVec 32 := 0#32
  ![v6074.toNat, v6079.toNat, 0]
def k0_off3669 (v6076 : BitVec 32) : Fin 2 → Nat :=
  let v6077 : BitVec 32 := v6076
  let c0_i32_3790 : BitVec 32 := 0#32
  ![v6077.toNat, 0]

def k0_chk913 (i : grid0.Coords) (v6076 : BitVec 32) : Prop :=
  (∀ (k0_h3 : k0_cond3 i = 1#1), 8 ∣ (k0_mult1825 v6076).toNat) ∧
  (∀ (k0_h3 : k0_cond3 i = 1#1), ∀ a, (k0_off3669 v6076) a + S8x128.size a ≤ S131072x128.size a)
theorem k0_mult1825_dvd : ∀ (i : grid0.Coords) (v6076 : BitVec 32) (k0_hw913 : k0_chk913 i v6076), ∀ (k0_h3 : k0_cond3 i = 1#1), 8 ∣ (k0_mult1825 v6076).toNat := fun i v6076 k0_hw913 k0_h3 => k0_hw913.1 k0_h3
theorem k0_off3669_inb : ∀ (i : grid0.Coords) (v6076 : BitVec 32) (k0_hw913 : k0_chk913 i v6076), ∀ (k0_h3 : k0_cond3 i = 1#1), ∀ a, (k0_off3669 v6076) a + S8x128.size a ≤ S131072x128.size a := fun i v6076 k0_hw913 k0_h3 => k0_hw913.2 k0_h3

def k0_off3670 (i : grid0.Coords) : Fin 3 → Nat :=
  let c0_3796 : Index := 0#32
  let c0_3797 : Index := 0#32
  let arg1 : BitVec 32 := BitVec.ofNat 32 (i 1).val
  let c2_i32_3791 : BitVec 32 := 2#32
  let v6085 : BitVec 32 := Scalar.muli arg1 c2_i32_3791
  let c1_i32_3792 : BitVec 32 := 1#32
  let v6086 : BitVec 32 := Scalar.addi v6085 c1_i32_3792
  let c256_i32_3793 : BitVec 32 := 256#32
  let v6087 : BitVec 32 := Scalar.muli v6086 c256_i32_3793
  let c144_i32_3794 : BitVec 32 := 144#32
  let v6088 : BitVec 32 := Scalar.addi v6087 c144_i32_3794
  let v6090 : Index := Scalar.indexCast v6088
  ![0, 0, v6090.toNat]
def k0_mult1827 (v6091 : BitVec 32) : BitVec 32 :=
  v6091

def k0_mult1828 (i : grid0.Coords) : BitVec 32 :=
  let arg1 : BitVec 32 := BitVec.ofNat 32 (i 1).val
  let c2_i32_3791 : BitVec 32 := 2#32
  let v6085 : BitVec 32 := Scalar.muli arg1 c2_i32_3791
  let c1_i32_3792 : BitVec 32 := 1#32
  let v6086 : BitVec 32 := Scalar.addi v6085 c1_i32_3792
  let c256_i32_3793 : BitVec 32 := 256#32
  let v6087 : BitVec 32 := Scalar.muli v6086 c256_i32_3793
  let c144_i32_3794 : BitVec 32 := 144#32
  let v6088 : BitVec 32 := Scalar.addi v6087 c144_i32_3794
  let c8_i32_3798 : BitVec 32 := 8#32
  let v6093 : BitVec 32 := Scalar.muli v6088 c8_i32_3798
  v6093
def k0_off3671 (i : grid0.Coords) : Fin 1 → Nat :=
  let c1_i32_3795 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6089 : BitVec 32 := Scalar.subi c1_i32_3795 v9
  ![v6089.toNat]
def k0_off3672 (i : grid0.Coords) : Fin 3 → Nat :=
  let c1_i32_3795 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6089 : BitVec 32 := Scalar.subi c1_i32_3795 v9
  let arg1 : BitVec 32 := BitVec.ofNat 32 (i 1).val
  let c2_i32_3791 : BitVec 32 := 2#32
  let v6085 : BitVec 32 := Scalar.muli arg1 c2_i32_3791
  let c1_i32_3792 : BitVec 32 := 1#32
  let v6086 : BitVec 32 := Scalar.addi v6085 c1_i32_3792
  let c256_i32_3793 : BitVec 32 := 256#32
  let v6087 : BitVec 32 := Scalar.muli v6086 c256_i32_3793
  let c144_i32_3794 : BitVec 32 := 144#32
  let v6088 : BitVec 32 := Scalar.addi v6087 c144_i32_3794
  let c8_i32_3798 : BitVec 32 := 8#32
  let v6093 : BitVec 32 := Scalar.muli v6088 c8_i32_3798
  let v6094 : BitVec 32 := v6093
  let c0_i32_3799 : BitVec 32 := 0#32
  ![v6089.toNat, v6094.toNat, 0]
def k0_off3673 (v6091 : BitVec 32) : Fin 2 → Nat :=
  let v6092 : BitVec 32 := v6091
  let c0_i32_3800 : BitVec 32 := 0#32
  ![v6092.toNat, 0]

def k0_chk914 (i : grid0.Coords) (v6091 : BitVec 32) : Prop :=
  (∀ (k0_h3 : k0_cond3 i = 1#1), 8 ∣ (k0_mult1827 v6091).toNat) ∧
  (∀ (k0_h3 : k0_cond3 i = 1#1), ∀ a, (k0_off3673 v6091) a + S8x128.size a ≤ S131072x128.size a)
theorem k0_mult1827_dvd : ∀ (i : grid0.Coords) (v6091 : BitVec 32) (k0_hw914 : k0_chk914 i v6091), ∀ (k0_h3 : k0_cond3 i = 1#1), 8 ∣ (k0_mult1827 v6091).toNat := fun i v6091 k0_hw914 k0_h3 => k0_hw914.1 k0_h3
theorem k0_off3673_inb : ∀ (i : grid0.Coords) (v6091 : BitVec 32) (k0_hw914 : k0_chk914 i v6091), ∀ (k0_h3 : k0_cond3 i = 1#1), ∀ a, (k0_off3673 v6091) a + S8x128.size a ≤ S131072x128.size a := fun i v6091 k0_hw914 k0_h3 => k0_hw914.2 k0_h3

def k0_off3674 (i : grid0.Coords) : Fin 3 → Nat :=
  let c0_3806 : Index := 0#32
  let c0_3807 : Index := 0#32
  let arg1 : BitVec 32 := BitVec.ofNat 32 (i 1).val
  let c2_i32_3801 : BitVec 32 := 2#32
  let v6100 : BitVec 32 := Scalar.muli arg1 c2_i32_3801
  let c1_i32_3802 : BitVec 32 := 1#32
  let v6101 : BitVec 32 := Scalar.addi v6100 c1_i32_3802
  let c256_i32_3803 : BitVec 32 := 256#32
  let v6102 : BitVec 32 := Scalar.muli v6101 c256_i32_3803
  let c145_i32_3804 : BitVec 32 := 145#32
  let v6103 : BitVec 32 := Scalar.addi v6102 c145_i32_3804
  let v6105 : Index := Scalar.indexCast v6103
  ![0, 0, v6105.toNat]
def k0_mult1829 (v6106 : BitVec 32) : BitVec 32 :=
  v6106

def k0_mult1830 (i : grid0.Coords) : BitVec 32 :=
  let arg1 : BitVec 32 := BitVec.ofNat 32 (i 1).val
  let c2_i32_3801 : BitVec 32 := 2#32
  let v6100 : BitVec 32 := Scalar.muli arg1 c2_i32_3801
  let c1_i32_3802 : BitVec 32 := 1#32
  let v6101 : BitVec 32 := Scalar.addi v6100 c1_i32_3802
  let c256_i32_3803 : BitVec 32 := 256#32
  let v6102 : BitVec 32 := Scalar.muli v6101 c256_i32_3803
  let c145_i32_3804 : BitVec 32 := 145#32
  let v6103 : BitVec 32 := Scalar.addi v6102 c145_i32_3804
  let c8_i32_3808 : BitVec 32 := 8#32
  let v6108 : BitVec 32 := Scalar.muli v6103 c8_i32_3808
  v6108
def k0_off3675 (i : grid0.Coords) : Fin 1 → Nat :=
  let c1_i32_3805 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6104 : BitVec 32 := Scalar.subi c1_i32_3805 v9
  ![v6104.toNat]
def k0_off3676 (i : grid0.Coords) : Fin 3 → Nat :=
  let c1_i32_3805 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6104 : BitVec 32 := Scalar.subi c1_i32_3805 v9
  let arg1 : BitVec 32 := BitVec.ofNat 32 (i 1).val
  let c2_i32_3801 : BitVec 32 := 2#32
  let v6100 : BitVec 32 := Scalar.muli arg1 c2_i32_3801
  let c1_i32_3802 : BitVec 32 := 1#32
  let v6101 : BitVec 32 := Scalar.addi v6100 c1_i32_3802
  let c256_i32_3803 : BitVec 32 := 256#32
  let v6102 : BitVec 32 := Scalar.muli v6101 c256_i32_3803
  let c145_i32_3804 : BitVec 32 := 145#32
  let v6103 : BitVec 32 := Scalar.addi v6102 c145_i32_3804
  let c8_i32_3808 : BitVec 32 := 8#32
  let v6108 : BitVec 32 := Scalar.muli v6103 c8_i32_3808
  let v6109 : BitVec 32 := v6108
  let c0_i32_3809 : BitVec 32 := 0#32
  ![v6104.toNat, v6109.toNat, 0]
def k0_off3677 (v6106 : BitVec 32) : Fin 2 → Nat :=
  let v6107 : BitVec 32 := v6106
  let c0_i32_3810 : BitVec 32 := 0#32
  ![v6107.toNat, 0]

def k0_chk915 (i : grid0.Coords) (v6106 : BitVec 32) : Prop :=
  (∀ (k0_h3 : k0_cond3 i = 1#1), 8 ∣ (k0_mult1829 v6106).toNat) ∧
  (∀ (k0_h3 : k0_cond3 i = 1#1), ∀ a, (k0_off3677 v6106) a + S8x128.size a ≤ S131072x128.size a)
theorem k0_mult1829_dvd : ∀ (i : grid0.Coords) (v6106 : BitVec 32) (k0_hw915 : k0_chk915 i v6106), ∀ (k0_h3 : k0_cond3 i = 1#1), 8 ∣ (k0_mult1829 v6106).toNat := fun i v6106 k0_hw915 k0_h3 => k0_hw915.1 k0_h3
theorem k0_off3677_inb : ∀ (i : grid0.Coords) (v6106 : BitVec 32) (k0_hw915 : k0_chk915 i v6106), ∀ (k0_h3 : k0_cond3 i = 1#1), ∀ a, (k0_off3677 v6106) a + S8x128.size a ≤ S131072x128.size a := fun i v6106 k0_hw915 k0_h3 => k0_hw915.2 k0_h3

def k0_off3678 (i : grid0.Coords) : Fin 3 → Nat :=
  let c0_3816 : Index := 0#32
  let c0_3817 : Index := 0#32
  let arg1 : BitVec 32 := BitVec.ofNat 32 (i 1).val
  let c2_i32_3811 : BitVec 32 := 2#32
  let v6115 : BitVec 32 := Scalar.muli arg1 c2_i32_3811
  let c1_i32_3812 : BitVec 32 := 1#32
  let v6116 : BitVec 32 := Scalar.addi v6115 c1_i32_3812
  let c256_i32_3813 : BitVec 32 := 256#32
  let v6117 : BitVec 32 := Scalar.muli v6116 c256_i32_3813
  let c146_i32_3814 : BitVec 32 := 146#32
  let v6118 : BitVec 32 := Scalar.addi v6117 c146_i32_3814
  let v6120 : Index := Scalar.indexCast v6118
  ![0, 0, v6120.toNat]
def k0_mult1831 (v6121 : BitVec 32) : BitVec 32 :=
  v6121

def k0_mult1832 (i : grid0.Coords) : BitVec 32 :=
  let arg1 : BitVec 32 := BitVec.ofNat 32 (i 1).val
  let c2_i32_3811 : BitVec 32 := 2#32
  let v6115 : BitVec 32 := Scalar.muli arg1 c2_i32_3811
  let c1_i32_3812 : BitVec 32 := 1#32
  let v6116 : BitVec 32 := Scalar.addi v6115 c1_i32_3812
  let c256_i32_3813 : BitVec 32 := 256#32
  let v6117 : BitVec 32 := Scalar.muli v6116 c256_i32_3813
  let c146_i32_3814 : BitVec 32 := 146#32
  let v6118 : BitVec 32 := Scalar.addi v6117 c146_i32_3814
  let c8_i32_3818 : BitVec 32 := 8#32
  let v6123 : BitVec 32 := Scalar.muli v6118 c8_i32_3818
  v6123
def k0_off3679 (i : grid0.Coords) : Fin 1 → Nat :=
  let c1_i32_3815 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6119 : BitVec 32 := Scalar.subi c1_i32_3815 v9
  ![v6119.toNat]
def k0_off3680 (i : grid0.Coords) : Fin 3 → Nat :=
  let c1_i32_3815 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6119 : BitVec 32 := Scalar.subi c1_i32_3815 v9
  let arg1 : BitVec 32 := BitVec.ofNat 32 (i 1).val
  let c2_i32_3811 : BitVec 32 := 2#32
  let v6115 : BitVec 32 := Scalar.muli arg1 c2_i32_3811
  let c1_i32_3812 : BitVec 32 := 1#32
  let v6116 : BitVec 32 := Scalar.addi v6115 c1_i32_3812
  let c256_i32_3813 : BitVec 32 := 256#32
  let v6117 : BitVec 32 := Scalar.muli v6116 c256_i32_3813
  let c146_i32_3814 : BitVec 32 := 146#32
  let v6118 : BitVec 32 := Scalar.addi v6117 c146_i32_3814
  let c8_i32_3818 : BitVec 32 := 8#32
  let v6123 : BitVec 32 := Scalar.muli v6118 c8_i32_3818
  let v6124 : BitVec 32 := v6123
  let c0_i32_3819 : BitVec 32 := 0#32
  ![v6119.toNat, v6124.toNat, 0]
def k0_off3681 (v6121 : BitVec 32) : Fin 2 → Nat :=
  let v6122 : BitVec 32 := v6121
  let c0_i32_3820 : BitVec 32 := 0#32
  ![v6122.toNat, 0]

def k0_chk916 (i : grid0.Coords) (v6121 : BitVec 32) : Prop :=
  (∀ (k0_h3 : k0_cond3 i = 1#1), 8 ∣ (k0_mult1831 v6121).toNat) ∧
  (∀ (k0_h3 : k0_cond3 i = 1#1), ∀ a, (k0_off3681 v6121) a + S8x128.size a ≤ S131072x128.size a)
theorem k0_mult1831_dvd : ∀ (i : grid0.Coords) (v6121 : BitVec 32) (k0_hw916 : k0_chk916 i v6121), ∀ (k0_h3 : k0_cond3 i = 1#1), 8 ∣ (k0_mult1831 v6121).toNat := fun i v6121 k0_hw916 k0_h3 => k0_hw916.1 k0_h3
theorem k0_off3681_inb : ∀ (i : grid0.Coords) (v6121 : BitVec 32) (k0_hw916 : k0_chk916 i v6121), ∀ (k0_h3 : k0_cond3 i = 1#1), ∀ a, (k0_off3681 v6121) a + S8x128.size a ≤ S131072x128.size a := fun i v6121 k0_hw916 k0_h3 => k0_hw916.2 k0_h3

def k0_off3682 (i : grid0.Coords) : Fin 3 → Nat :=
  let c0_3826 : Index := 0#32
  let c0_3827 : Index := 0#32
  let arg1 : BitVec 32 := BitVec.ofNat 32 (i 1).val
  let c2_i32_3821 : BitVec 32 := 2#32
  let v6130 : BitVec 32 := Scalar.muli arg1 c2_i32_3821
  let c1_i32_3822 : BitVec 32 := 1#32
  let v6131 : BitVec 32 := Scalar.addi v6130 c1_i32_3822
  let c256_i32_3823 : BitVec 32 := 256#32
  let v6132 : BitVec 32 := Scalar.muli v6131 c256_i32_3823
  let c147_i32_3824 : BitVec 32 := 147#32
  let v6133 : BitVec 32 := Scalar.addi v6132 c147_i32_3824
  let v6135 : Index := Scalar.indexCast v6133
  ![0, 0, v6135.toNat]
def k0_mult1833 (v6136 : BitVec 32) : BitVec 32 :=
  v6136

def k0_mult1834 (i : grid0.Coords) : BitVec 32 :=
  let arg1 : BitVec 32 := BitVec.ofNat 32 (i 1).val
  let c2_i32_3821 : BitVec 32 := 2#32
  let v6130 : BitVec 32 := Scalar.muli arg1 c2_i32_3821
  let c1_i32_3822 : BitVec 32 := 1#32
  let v6131 : BitVec 32 := Scalar.addi v6130 c1_i32_3822
  let c256_i32_3823 : BitVec 32 := 256#32
  let v6132 : BitVec 32 := Scalar.muli v6131 c256_i32_3823
  let c147_i32_3824 : BitVec 32 := 147#32
  let v6133 : BitVec 32 := Scalar.addi v6132 c147_i32_3824
  let c8_i32_3828 : BitVec 32 := 8#32
  let v6138 : BitVec 32 := Scalar.muli v6133 c8_i32_3828
  v6138
def k0_off3683 (i : grid0.Coords) : Fin 1 → Nat :=
  let c1_i32_3825 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6134 : BitVec 32 := Scalar.subi c1_i32_3825 v9
  ![v6134.toNat]
def k0_off3684 (i : grid0.Coords) : Fin 3 → Nat :=
  let c1_i32_3825 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6134 : BitVec 32 := Scalar.subi c1_i32_3825 v9
  let arg1 : BitVec 32 := BitVec.ofNat 32 (i 1).val
  let c2_i32_3821 : BitVec 32 := 2#32
  let v6130 : BitVec 32 := Scalar.muli arg1 c2_i32_3821
  let c1_i32_3822 : BitVec 32 := 1#32
  let v6131 : BitVec 32 := Scalar.addi v6130 c1_i32_3822
  let c256_i32_3823 : BitVec 32 := 256#32
  let v6132 : BitVec 32 := Scalar.muli v6131 c256_i32_3823
  let c147_i32_3824 : BitVec 32 := 147#32
  let v6133 : BitVec 32 := Scalar.addi v6132 c147_i32_3824
  let c8_i32_3828 : BitVec 32 := 8#32
  let v6138 : BitVec 32 := Scalar.muli v6133 c8_i32_3828
  let v6139 : BitVec 32 := v6138
  let c0_i32_3829 : BitVec 32 := 0#32
  ![v6134.toNat, v6139.toNat, 0]
def k0_off3685 (v6136 : BitVec 32) : Fin 2 → Nat :=
  let v6137 : BitVec 32 := v6136
  let c0_i32_3830 : BitVec 32 := 0#32
  ![v6137.toNat, 0]

def k0_chk917 (i : grid0.Coords) (v6136 : BitVec 32) : Prop :=
  (∀ (k0_h3 : k0_cond3 i = 1#1), 8 ∣ (k0_mult1833 v6136).toNat) ∧
  (∀ (k0_h3 : k0_cond3 i = 1#1), ∀ a, (k0_off3685 v6136) a + S8x128.size a ≤ S131072x128.size a)
theorem k0_mult1833_dvd : ∀ (i : grid0.Coords) (v6136 : BitVec 32) (k0_hw917 : k0_chk917 i v6136), ∀ (k0_h3 : k0_cond3 i = 1#1), 8 ∣ (k0_mult1833 v6136).toNat := fun i v6136 k0_hw917 k0_h3 => k0_hw917.1 k0_h3
theorem k0_off3685_inb : ∀ (i : grid0.Coords) (v6136 : BitVec 32) (k0_hw917 : k0_chk917 i v6136), ∀ (k0_h3 : k0_cond3 i = 1#1), ∀ a, (k0_off3685 v6136) a + S8x128.size a ≤ S131072x128.size a := fun i v6136 k0_hw917 k0_h3 => k0_hw917.2 k0_h3

def k0_off3686 (i : grid0.Coords) : Fin 3 → Nat :=
  let c0_3836 : Index := 0#32
  let c0_3837 : Index := 0#32
  let arg1 : BitVec 32 := BitVec.ofNat 32 (i 1).val
  let c2_i32_3831 : BitVec 32 := 2#32
  let v6145 : BitVec 32 := Scalar.muli arg1 c2_i32_3831
  let c1_i32_3832 : BitVec 32 := 1#32
  let v6146 : BitVec 32 := Scalar.addi v6145 c1_i32_3832
  let c256_i32_3833 : BitVec 32 := 256#32
  let v6147 : BitVec 32 := Scalar.muli v6146 c256_i32_3833
  let c148_i32_3834 : BitVec 32 := 148#32
  let v6148 : BitVec 32 := Scalar.addi v6147 c148_i32_3834
  let v6150 : Index := Scalar.indexCast v6148
  ![0, 0, v6150.toNat]
def k0_mult1835 (v6151 : BitVec 32) : BitVec 32 :=
  v6151

def k0_mult1836 (i : grid0.Coords) : BitVec 32 :=
  let arg1 : BitVec 32 := BitVec.ofNat 32 (i 1).val
  let c2_i32_3831 : BitVec 32 := 2#32
  let v6145 : BitVec 32 := Scalar.muli arg1 c2_i32_3831
  let c1_i32_3832 : BitVec 32 := 1#32
  let v6146 : BitVec 32 := Scalar.addi v6145 c1_i32_3832
  let c256_i32_3833 : BitVec 32 := 256#32
  let v6147 : BitVec 32 := Scalar.muli v6146 c256_i32_3833
  let c148_i32_3834 : BitVec 32 := 148#32
  let v6148 : BitVec 32 := Scalar.addi v6147 c148_i32_3834
  let c8_i32_3838 : BitVec 32 := 8#32
  let v6153 : BitVec 32 := Scalar.muli v6148 c8_i32_3838
  v6153
def k0_off3687 (i : grid0.Coords) : Fin 1 → Nat :=
  let c1_i32_3835 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6149 : BitVec 32 := Scalar.subi c1_i32_3835 v9
  ![v6149.toNat]
def k0_off3688 (i : grid0.Coords) : Fin 3 → Nat :=
  let c1_i32_3835 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6149 : BitVec 32 := Scalar.subi c1_i32_3835 v9
  let arg1 : BitVec 32 := BitVec.ofNat 32 (i 1).val
  let c2_i32_3831 : BitVec 32 := 2#32
  let v6145 : BitVec 32 := Scalar.muli arg1 c2_i32_3831
  let c1_i32_3832 : BitVec 32 := 1#32
  let v6146 : BitVec 32 := Scalar.addi v6145 c1_i32_3832
  let c256_i32_3833 : BitVec 32 := 256#32
  let v6147 : BitVec 32 := Scalar.muli v6146 c256_i32_3833
  let c148_i32_3834 : BitVec 32 := 148#32
  let v6148 : BitVec 32 := Scalar.addi v6147 c148_i32_3834
  let c8_i32_3838 : BitVec 32 := 8#32
  let v6153 : BitVec 32 := Scalar.muli v6148 c8_i32_3838
  let v6154 : BitVec 32 := v6153
  let c0_i32_3839 : BitVec 32 := 0#32
  ![v6149.toNat, v6154.toNat, 0]
def k0_off3689 (v6151 : BitVec 32) : Fin 2 → Nat :=
  let v6152 : BitVec 32 := v6151
  let c0_i32_3840 : BitVec 32 := 0#32
  ![v6152.toNat, 0]

def k0_chk918 (i : grid0.Coords) (v6151 : BitVec 32) : Prop :=
  (∀ (k0_h3 : k0_cond3 i = 1#1), 8 ∣ (k0_mult1835 v6151).toNat) ∧
  (∀ (k0_h3 : k0_cond3 i = 1#1), ∀ a, (k0_off3689 v6151) a + S8x128.size a ≤ S131072x128.size a)
theorem k0_mult1835_dvd : ∀ (i : grid0.Coords) (v6151 : BitVec 32) (k0_hw918 : k0_chk918 i v6151), ∀ (k0_h3 : k0_cond3 i = 1#1), 8 ∣ (k0_mult1835 v6151).toNat := fun i v6151 k0_hw918 k0_h3 => k0_hw918.1 k0_h3
theorem k0_off3689_inb : ∀ (i : grid0.Coords) (v6151 : BitVec 32) (k0_hw918 : k0_chk918 i v6151), ∀ (k0_h3 : k0_cond3 i = 1#1), ∀ a, (k0_off3689 v6151) a + S8x128.size a ≤ S131072x128.size a := fun i v6151 k0_hw918 k0_h3 => k0_hw918.2 k0_h3

def k0_off3690 (i : grid0.Coords) : Fin 3 → Nat :=
  let c0_3846 : Index := 0#32
  let c0_3847 : Index := 0#32
  let arg1 : BitVec 32 := BitVec.ofNat 32 (i 1).val
  let c2_i32_3841 : BitVec 32 := 2#32
  let v6160 : BitVec 32 := Scalar.muli arg1 c2_i32_3841
  let c1_i32_3842 : BitVec 32 := 1#32
  let v6161 : BitVec 32 := Scalar.addi v6160 c1_i32_3842
  let c256_i32_3843 : BitVec 32 := 256#32
  let v6162 : BitVec 32 := Scalar.muli v6161 c256_i32_3843
  let c149_i32_3844 : BitVec 32 := 149#32
  let v6163 : BitVec 32 := Scalar.addi v6162 c149_i32_3844
  let v6165 : Index := Scalar.indexCast v6163
  ![0, 0, v6165.toNat]
def k0_mult1837 (v6166 : BitVec 32) : BitVec 32 :=
  v6166

def k0_mult1838 (i : grid0.Coords) : BitVec 32 :=
  let arg1 : BitVec 32 := BitVec.ofNat 32 (i 1).val
  let c2_i32_3841 : BitVec 32 := 2#32
  let v6160 : BitVec 32 := Scalar.muli arg1 c2_i32_3841
  let c1_i32_3842 : BitVec 32 := 1#32
  let v6161 : BitVec 32 := Scalar.addi v6160 c1_i32_3842
  let c256_i32_3843 : BitVec 32 := 256#32
  let v6162 : BitVec 32 := Scalar.muli v6161 c256_i32_3843
  let c149_i32_3844 : BitVec 32 := 149#32
  let v6163 : BitVec 32 := Scalar.addi v6162 c149_i32_3844
  let c8_i32_3848 : BitVec 32 := 8#32
  let v6168 : BitVec 32 := Scalar.muli v6163 c8_i32_3848
  v6168
def k0_off3691 (i : grid0.Coords) : Fin 1 → Nat :=
  let c1_i32_3845 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6164 : BitVec 32 := Scalar.subi c1_i32_3845 v9
  ![v6164.toNat]
def k0_off3692 (i : grid0.Coords) : Fin 3 → Nat :=
  let c1_i32_3845 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6164 : BitVec 32 := Scalar.subi c1_i32_3845 v9
  let arg1 : BitVec 32 := BitVec.ofNat 32 (i 1).val
  let c2_i32_3841 : BitVec 32 := 2#32
  let v6160 : BitVec 32 := Scalar.muli arg1 c2_i32_3841
  let c1_i32_3842 : BitVec 32 := 1#32
  let v6161 : BitVec 32 := Scalar.addi v6160 c1_i32_3842
  let c256_i32_3843 : BitVec 32 := 256#32
  let v6162 : BitVec 32 := Scalar.muli v6161 c256_i32_3843
  let c149_i32_3844 : BitVec 32 := 149#32
  let v6163 : BitVec 32 := Scalar.addi v6162 c149_i32_3844
  let c8_i32_3848 : BitVec 32 := 8#32
  let v6168 : BitVec 32 := Scalar.muli v6163 c8_i32_3848
  let v6169 : BitVec 32 := v6168
  let c0_i32_3849 : BitVec 32 := 0#32
  ![v6164.toNat, v6169.toNat, 0]
def k0_off3693 (v6166 : BitVec 32) : Fin 2 → Nat :=
  let v6167 : BitVec 32 := v6166
  let c0_i32_3850 : BitVec 32 := 0#32
  ![v6167.toNat, 0]

def k0_chk919 (i : grid0.Coords) (v6166 : BitVec 32) : Prop :=
  (∀ (k0_h3 : k0_cond3 i = 1#1), 8 ∣ (k0_mult1837 v6166).toNat) ∧
  (∀ (k0_h3 : k0_cond3 i = 1#1), ∀ a, (k0_off3693 v6166) a + S8x128.size a ≤ S131072x128.size a)
theorem k0_mult1837_dvd : ∀ (i : grid0.Coords) (v6166 : BitVec 32) (k0_hw919 : k0_chk919 i v6166), ∀ (k0_h3 : k0_cond3 i = 1#1), 8 ∣ (k0_mult1837 v6166).toNat := fun i v6166 k0_hw919 k0_h3 => k0_hw919.1 k0_h3
theorem k0_off3693_inb : ∀ (i : grid0.Coords) (v6166 : BitVec 32) (k0_hw919 : k0_chk919 i v6166), ∀ (k0_h3 : k0_cond3 i = 1#1), ∀ a, (k0_off3693 v6166) a + S8x128.size a ≤ S131072x128.size a := fun i v6166 k0_hw919 k0_h3 => k0_hw919.2 k0_h3

def k0_off3694 (i : grid0.Coords) : Fin 3 → Nat :=
  let c0_3856 : Index := 0#32
  let c0_3857 : Index := 0#32
  let arg1 : BitVec 32 := BitVec.ofNat 32 (i 1).val
  let c2_i32_3851 : BitVec 32 := 2#32
  let v6175 : BitVec 32 := Scalar.muli arg1 c2_i32_3851
  let c1_i32_3852 : BitVec 32 := 1#32
  let v6176 : BitVec 32 := Scalar.addi v6175 c1_i32_3852
  let c256_i32_3853 : BitVec 32 := 256#32
  let v6177 : BitVec 32 := Scalar.muli v6176 c256_i32_3853
  let c150_i32_3854 : BitVec 32 := 150#32
  let v6178 : BitVec 32 := Scalar.addi v6177 c150_i32_3854
  let v6180 : Index := Scalar.indexCast v6178
  ![0, 0, v6180.toNat]
def k0_mult1839 (v6181 : BitVec 32) : BitVec 32 :=
  v6181

def k0_mult1840 (i : grid0.Coords) : BitVec 32 :=
  let arg1 : BitVec 32 := BitVec.ofNat 32 (i 1).val
  let c2_i32_3851 : BitVec 32 := 2#32
  let v6175 : BitVec 32 := Scalar.muli arg1 c2_i32_3851
  let c1_i32_3852 : BitVec 32 := 1#32
  let v6176 : BitVec 32 := Scalar.addi v6175 c1_i32_3852
  let c256_i32_3853 : BitVec 32 := 256#32
  let v6177 : BitVec 32 := Scalar.muli v6176 c256_i32_3853
  let c150_i32_3854 : BitVec 32 := 150#32
  let v6178 : BitVec 32 := Scalar.addi v6177 c150_i32_3854
  let c8_i32_3858 : BitVec 32 := 8#32
  let v6183 : BitVec 32 := Scalar.muli v6178 c8_i32_3858
  v6183
def k0_off3695 (i : grid0.Coords) : Fin 1 → Nat :=
  let c1_i32_3855 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6179 : BitVec 32 := Scalar.subi c1_i32_3855 v9
  ![v6179.toNat]
def k0_off3696 (i : grid0.Coords) : Fin 3 → Nat :=
  let c1_i32_3855 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6179 : BitVec 32 := Scalar.subi c1_i32_3855 v9
  let arg1 : BitVec 32 := BitVec.ofNat 32 (i 1).val
  let c2_i32_3851 : BitVec 32 := 2#32
  let v6175 : BitVec 32 := Scalar.muli arg1 c2_i32_3851
  let c1_i32_3852 : BitVec 32 := 1#32
  let v6176 : BitVec 32 := Scalar.addi v6175 c1_i32_3852
  let c256_i32_3853 : BitVec 32 := 256#32
  let v6177 : BitVec 32 := Scalar.muli v6176 c256_i32_3853
  let c150_i32_3854 : BitVec 32 := 150#32
  let v6178 : BitVec 32 := Scalar.addi v6177 c150_i32_3854
  let c8_i32_3858 : BitVec 32 := 8#32
  let v6183 : BitVec 32 := Scalar.muli v6178 c8_i32_3858
  let v6184 : BitVec 32 := v6183
  let c0_i32_3859 : BitVec 32 := 0#32
  ![v6179.toNat, v6184.toNat, 0]
def k0_off3697 (v6181 : BitVec 32) : Fin 2 → Nat :=
  let v6182 : BitVec 32 := v6181
  let c0_i32_3860 : BitVec 32 := 0#32
  ![v6182.toNat, 0]

def k0_chk920 (i : grid0.Coords) (v6181 : BitVec 32) : Prop :=
  (∀ (k0_h3 : k0_cond3 i = 1#1), 8 ∣ (k0_mult1839 v6181).toNat) ∧
  (∀ (k0_h3 : k0_cond3 i = 1#1), ∀ a, (k0_off3697 v6181) a + S8x128.size a ≤ S131072x128.size a)
theorem k0_mult1839_dvd : ∀ (i : grid0.Coords) (v6181 : BitVec 32) (k0_hw920 : k0_chk920 i v6181), ∀ (k0_h3 : k0_cond3 i = 1#1), 8 ∣ (k0_mult1839 v6181).toNat := fun i v6181 k0_hw920 k0_h3 => k0_hw920.1 k0_h3
theorem k0_off3697_inb : ∀ (i : grid0.Coords) (v6181 : BitVec 32) (k0_hw920 : k0_chk920 i v6181), ∀ (k0_h3 : k0_cond3 i = 1#1), ∀ a, (k0_off3697 v6181) a + S8x128.size a ≤ S131072x128.size a := fun i v6181 k0_hw920 k0_h3 => k0_hw920.2 k0_h3

def k0_off3698 (i : grid0.Coords) : Fin 3 → Nat :=
  let c0_3866 : Index := 0#32
  let c0_3867 : Index := 0#32
  let arg1 : BitVec 32 := BitVec.ofNat 32 (i 1).val
  let c2_i32_3861 : BitVec 32 := 2#32
  let v6190 : BitVec 32 := Scalar.muli arg1 c2_i32_3861
  let c1_i32_3862 : BitVec 32 := 1#32
  let v6191 : BitVec 32 := Scalar.addi v6190 c1_i32_3862
  let c256_i32_3863 : BitVec 32 := 256#32
  let v6192 : BitVec 32 := Scalar.muli v6191 c256_i32_3863
  let c151_i32_3864 : BitVec 32 := 151#32
  let v6193 : BitVec 32 := Scalar.addi v6192 c151_i32_3864
  let v6195 : Index := Scalar.indexCast v6193
  ![0, 0, v6195.toNat]
def k0_mult1841 (v6196 : BitVec 32) : BitVec 32 :=
  v6196

def k0_mult1842 (i : grid0.Coords) : BitVec 32 :=
  let arg1 : BitVec 32 := BitVec.ofNat 32 (i 1).val
  let c2_i32_3861 : BitVec 32 := 2#32
  let v6190 : BitVec 32 := Scalar.muli arg1 c2_i32_3861
  let c1_i32_3862 : BitVec 32 := 1#32
  let v6191 : BitVec 32 := Scalar.addi v6190 c1_i32_3862
  let c256_i32_3863 : BitVec 32 := 256#32
  let v6192 : BitVec 32 := Scalar.muli v6191 c256_i32_3863
  let c151_i32_3864 : BitVec 32 := 151#32
  let v6193 : BitVec 32 := Scalar.addi v6192 c151_i32_3864
  let c8_i32_3868 : BitVec 32 := 8#32
  let v6198 : BitVec 32 := Scalar.muli v6193 c8_i32_3868
  v6198
def k0_off3699 (i : grid0.Coords) : Fin 1 → Nat :=
  let c1_i32_3865 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6194 : BitVec 32 := Scalar.subi c1_i32_3865 v9
  ![v6194.toNat]
def k0_off3700 (i : grid0.Coords) : Fin 3 → Nat :=
  let c1_i32_3865 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6194 : BitVec 32 := Scalar.subi c1_i32_3865 v9
  let arg1 : BitVec 32 := BitVec.ofNat 32 (i 1).val
  let c2_i32_3861 : BitVec 32 := 2#32
  let v6190 : BitVec 32 := Scalar.muli arg1 c2_i32_3861
  let c1_i32_3862 : BitVec 32 := 1#32
  let v6191 : BitVec 32 := Scalar.addi v6190 c1_i32_3862
  let c256_i32_3863 : BitVec 32 := 256#32
  let v6192 : BitVec 32 := Scalar.muli v6191 c256_i32_3863
  let c151_i32_3864 : BitVec 32 := 151#32
  let v6193 : BitVec 32 := Scalar.addi v6192 c151_i32_3864
  let c8_i32_3868 : BitVec 32 := 8#32
  let v6198 : BitVec 32 := Scalar.muli v6193 c8_i32_3868
  let v6199 : BitVec 32 := v6198
  let c0_i32_3869 : BitVec 32 := 0#32
  ![v6194.toNat, v6199.toNat, 0]
def k0_off3701 (v6196 : BitVec 32) : Fin 2 → Nat :=
  let v6197 : BitVec 32 := v6196
  let c0_i32_3870 : BitVec 32 := 0#32
  ![v6197.toNat, 0]

def k0_chk921 (i : grid0.Coords) (v6196 : BitVec 32) : Prop :=
  (∀ (k0_h3 : k0_cond3 i = 1#1), 8 ∣ (k0_mult1841 v6196).toNat) ∧
  (∀ (k0_h3 : k0_cond3 i = 1#1), ∀ a, (k0_off3701 v6196) a + S8x128.size a ≤ S131072x128.size a)
theorem k0_mult1841_dvd : ∀ (i : grid0.Coords) (v6196 : BitVec 32) (k0_hw921 : k0_chk921 i v6196), ∀ (k0_h3 : k0_cond3 i = 1#1), 8 ∣ (k0_mult1841 v6196).toNat := fun i v6196 k0_hw921 k0_h3 => k0_hw921.1 k0_h3
theorem k0_off3701_inb : ∀ (i : grid0.Coords) (v6196 : BitVec 32) (k0_hw921 : k0_chk921 i v6196), ∀ (k0_h3 : k0_cond3 i = 1#1), ∀ a, (k0_off3701 v6196) a + S8x128.size a ≤ S131072x128.size a := fun i v6196 k0_hw921 k0_h3 => k0_hw921.2 k0_h3

def k0_off3702 (i : grid0.Coords) : Fin 3 → Nat :=
  let c0_3876 : Index := 0#32
  let c0_3877 : Index := 0#32
  let arg1 : BitVec 32 := BitVec.ofNat 32 (i 1).val
  let c2_i32_3871 : BitVec 32 := 2#32
  let v6205 : BitVec 32 := Scalar.muli arg1 c2_i32_3871
  let c1_i32_3872 : BitVec 32 := 1#32
  let v6206 : BitVec 32 := Scalar.addi v6205 c1_i32_3872
  let c256_i32_3873 : BitVec 32 := 256#32
  let v6207 : BitVec 32 := Scalar.muli v6206 c256_i32_3873
  let c152_i32_3874 : BitVec 32 := 152#32
  let v6208 : BitVec 32 := Scalar.addi v6207 c152_i32_3874
  let v6210 : Index := Scalar.indexCast v6208
  ![0, 0, v6210.toNat]
def k0_mult1843 (v6211 : BitVec 32) : BitVec 32 :=
  v6211

def k0_mult1844 (i : grid0.Coords) : BitVec 32 :=
  let arg1 : BitVec 32 := BitVec.ofNat 32 (i 1).val
  let c2_i32_3871 : BitVec 32 := 2#32
  let v6205 : BitVec 32 := Scalar.muli arg1 c2_i32_3871
  let c1_i32_3872 : BitVec 32 := 1#32
  let v6206 : BitVec 32 := Scalar.addi v6205 c1_i32_3872
  let c256_i32_3873 : BitVec 32 := 256#32
  let v6207 : BitVec 32 := Scalar.muli v6206 c256_i32_3873
  let c152_i32_3874 : BitVec 32 := 152#32
  let v6208 : BitVec 32 := Scalar.addi v6207 c152_i32_3874
  let c8_i32_3878 : BitVec 32 := 8#32
  let v6213 : BitVec 32 := Scalar.muli v6208 c8_i32_3878
  v6213
def k0_off3703 (i : grid0.Coords) : Fin 1 → Nat :=
  let c1_i32_3875 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6209 : BitVec 32 := Scalar.subi c1_i32_3875 v9
  ![v6209.toNat]
def k0_off3704 (i : grid0.Coords) : Fin 3 → Nat :=
  let c1_i32_3875 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6209 : BitVec 32 := Scalar.subi c1_i32_3875 v9
  let arg1 : BitVec 32 := BitVec.ofNat 32 (i 1).val
  let c2_i32_3871 : BitVec 32 := 2#32
  let v6205 : BitVec 32 := Scalar.muli arg1 c2_i32_3871
  let c1_i32_3872 : BitVec 32 := 1#32
  let v6206 : BitVec 32 := Scalar.addi v6205 c1_i32_3872
  let c256_i32_3873 : BitVec 32 := 256#32
  let v6207 : BitVec 32 := Scalar.muli v6206 c256_i32_3873
  let c152_i32_3874 : BitVec 32 := 152#32
  let v6208 : BitVec 32 := Scalar.addi v6207 c152_i32_3874
  let c8_i32_3878 : BitVec 32 := 8#32
  let v6213 : BitVec 32 := Scalar.muli v6208 c8_i32_3878
  let v6214 : BitVec 32 := v6213
  let c0_i32_3879 : BitVec 32 := 0#32
  ![v6209.toNat, v6214.toNat, 0]
def k0_off3705 (v6211 : BitVec 32) : Fin 2 → Nat :=
  let v6212 : BitVec 32 := v6211
  let c0_i32_3880 : BitVec 32 := 0#32
  ![v6212.toNat, 0]

def k0_chk922 (i : grid0.Coords) (v6211 : BitVec 32) : Prop :=
  (∀ (k0_h3 : k0_cond3 i = 1#1), 8 ∣ (k0_mult1843 v6211).toNat) ∧
  (∀ (k0_h3 : k0_cond3 i = 1#1), ∀ a, (k0_off3705 v6211) a + S8x128.size a ≤ S131072x128.size a)
theorem k0_mult1843_dvd : ∀ (i : grid0.Coords) (v6211 : BitVec 32) (k0_hw922 : k0_chk922 i v6211), ∀ (k0_h3 : k0_cond3 i = 1#1), 8 ∣ (k0_mult1843 v6211).toNat := fun i v6211 k0_hw922 k0_h3 => k0_hw922.1 k0_h3
theorem k0_off3705_inb : ∀ (i : grid0.Coords) (v6211 : BitVec 32) (k0_hw922 : k0_chk922 i v6211), ∀ (k0_h3 : k0_cond3 i = 1#1), ∀ a, (k0_off3705 v6211) a + S8x128.size a ≤ S131072x128.size a := fun i v6211 k0_hw922 k0_h3 => k0_hw922.2 k0_h3

def k0_off3706 (i : grid0.Coords) : Fin 3 → Nat :=
  let c0_3886 : Index := 0#32
  let c0_3887 : Index := 0#32
  let arg1 : BitVec 32 := BitVec.ofNat 32 (i 1).val
  let c2_i32_3881 : BitVec 32 := 2#32
  let v6220 : BitVec 32 := Scalar.muli arg1 c2_i32_3881
  let c1_i32_3882 : BitVec 32 := 1#32
  let v6221 : BitVec 32 := Scalar.addi v6220 c1_i32_3882
  let c256_i32_3883 : BitVec 32 := 256#32
  let v6222 : BitVec 32 := Scalar.muli v6221 c256_i32_3883
  let c153_i32_3884 : BitVec 32 := 153#32
  let v6223 : BitVec 32 := Scalar.addi v6222 c153_i32_3884
  let v6225 : Index := Scalar.indexCast v6223
  ![0, 0, v6225.toNat]
def k0_mult1845 (v6226 : BitVec 32) : BitVec 32 :=
  v6226

def k0_mult1846 (i : grid0.Coords) : BitVec 32 :=
  let arg1 : BitVec 32 := BitVec.ofNat 32 (i 1).val
  let c2_i32_3881 : BitVec 32 := 2#32
  let v6220 : BitVec 32 := Scalar.muli arg1 c2_i32_3881
  let c1_i32_3882 : BitVec 32 := 1#32
  let v6221 : BitVec 32 := Scalar.addi v6220 c1_i32_3882
  let c256_i32_3883 : BitVec 32 := 256#32
  let v6222 : BitVec 32 := Scalar.muli v6221 c256_i32_3883
  let c153_i32_3884 : BitVec 32 := 153#32
  let v6223 : BitVec 32 := Scalar.addi v6222 c153_i32_3884
  let c8_i32_3888 : BitVec 32 := 8#32
  let v6228 : BitVec 32 := Scalar.muli v6223 c8_i32_3888
  v6228
def k0_off3707 (i : grid0.Coords) : Fin 1 → Nat :=
  let c1_i32_3885 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6224 : BitVec 32 := Scalar.subi c1_i32_3885 v9
  ![v6224.toNat]
def k0_off3708 (i : grid0.Coords) : Fin 3 → Nat :=
  let c1_i32_3885 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6224 : BitVec 32 := Scalar.subi c1_i32_3885 v9
  let arg1 : BitVec 32 := BitVec.ofNat 32 (i 1).val
  let c2_i32_3881 : BitVec 32 := 2#32
  let v6220 : BitVec 32 := Scalar.muli arg1 c2_i32_3881
  let c1_i32_3882 : BitVec 32 := 1#32
  let v6221 : BitVec 32 := Scalar.addi v6220 c1_i32_3882
  let c256_i32_3883 : BitVec 32 := 256#32
  let v6222 : BitVec 32 := Scalar.muli v6221 c256_i32_3883
  let c153_i32_3884 : BitVec 32 := 153#32
  let v6223 : BitVec 32 := Scalar.addi v6222 c153_i32_3884
  let c8_i32_3888 : BitVec 32 := 8#32
  let v6228 : BitVec 32 := Scalar.muli v6223 c8_i32_3888
  let v6229 : BitVec 32 := v6228
  let c0_i32_3889 : BitVec 32 := 0#32
  ![v6224.toNat, v6229.toNat, 0]
def k0_off3709 (v6226 : BitVec 32) : Fin 2 → Nat :=
  let v6227 : BitVec 32 := v6226
  let c0_i32_3890 : BitVec 32 := 0#32
  ![v6227.toNat, 0]

def k0_chk923 (i : grid0.Coords) (v6226 : BitVec 32) : Prop :=
  (∀ (k0_h3 : k0_cond3 i = 1#1), 8 ∣ (k0_mult1845 v6226).toNat) ∧
  (∀ (k0_h3 : k0_cond3 i = 1#1), ∀ a, (k0_off3709 v6226) a + S8x128.size a ≤ S131072x128.size a)
theorem k0_mult1845_dvd : ∀ (i : grid0.Coords) (v6226 : BitVec 32) (k0_hw923 : k0_chk923 i v6226), ∀ (k0_h3 : k0_cond3 i = 1#1), 8 ∣ (k0_mult1845 v6226).toNat := fun i v6226 k0_hw923 k0_h3 => k0_hw923.1 k0_h3
theorem k0_off3709_inb : ∀ (i : grid0.Coords) (v6226 : BitVec 32) (k0_hw923 : k0_chk923 i v6226), ∀ (k0_h3 : k0_cond3 i = 1#1), ∀ a, (k0_off3709 v6226) a + S8x128.size a ≤ S131072x128.size a := fun i v6226 k0_hw923 k0_h3 => k0_hw923.2 k0_h3

def k0_off3710 (i : grid0.Coords) : Fin 3 → Nat :=
  let c0_3896 : Index := 0#32
  let c0_3897 : Index := 0#32
  let arg1 : BitVec 32 := BitVec.ofNat 32 (i 1).val
  let c2_i32_3891 : BitVec 32 := 2#32
  let v6235 : BitVec 32 := Scalar.muli arg1 c2_i32_3891
  let c1_i32_3892 : BitVec 32 := 1#32
  let v6236 : BitVec 32 := Scalar.addi v6235 c1_i32_3892
  let c256_i32_3893 : BitVec 32 := 256#32
  let v6237 : BitVec 32 := Scalar.muli v6236 c256_i32_3893
  let c154_i32_3894 : BitVec 32 := 154#32
  let v6238 : BitVec 32 := Scalar.addi v6237 c154_i32_3894
  let v6240 : Index := Scalar.indexCast v6238
  ![0, 0, v6240.toNat]
def k0_mult1847 (v6241 : BitVec 32) : BitVec 32 :=
  v6241

def k0_mult1848 (i : grid0.Coords) : BitVec 32 :=
  let arg1 : BitVec 32 := BitVec.ofNat 32 (i 1).val
  let c2_i32_3891 : BitVec 32 := 2#32
  let v6235 : BitVec 32 := Scalar.muli arg1 c2_i32_3891
  let c1_i32_3892 : BitVec 32 := 1#32
  let v6236 : BitVec 32 := Scalar.addi v6235 c1_i32_3892
  let c256_i32_3893 : BitVec 32 := 256#32
  let v6237 : BitVec 32 := Scalar.muli v6236 c256_i32_3893
  let c154_i32_3894 : BitVec 32 := 154#32
  let v6238 : BitVec 32 := Scalar.addi v6237 c154_i32_3894
  let c8_i32_3898 : BitVec 32 := 8#32
  let v6243 : BitVec 32 := Scalar.muli v6238 c8_i32_3898
  v6243
def k0_off3711 (i : grid0.Coords) : Fin 1 → Nat :=
  let c1_i32_3895 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6239 : BitVec 32 := Scalar.subi c1_i32_3895 v9
  ![v6239.toNat]
def k0_off3712 (i : grid0.Coords) : Fin 3 → Nat :=
  let c1_i32_3895 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6239 : BitVec 32 := Scalar.subi c1_i32_3895 v9
  let arg1 : BitVec 32 := BitVec.ofNat 32 (i 1).val
  let c2_i32_3891 : BitVec 32 := 2#32
  let v6235 : BitVec 32 := Scalar.muli arg1 c2_i32_3891
  let c1_i32_3892 : BitVec 32 := 1#32
  let v6236 : BitVec 32 := Scalar.addi v6235 c1_i32_3892
  let c256_i32_3893 : BitVec 32 := 256#32
  let v6237 : BitVec 32 := Scalar.muli v6236 c256_i32_3893
  let c154_i32_3894 : BitVec 32 := 154#32
  let v6238 : BitVec 32 := Scalar.addi v6237 c154_i32_3894
  let c8_i32_3898 : BitVec 32 := 8#32
  let v6243 : BitVec 32 := Scalar.muli v6238 c8_i32_3898
  let v6244 : BitVec 32 := v6243
  let c0_i32_3899 : BitVec 32 := 0#32
  ![v6239.toNat, v6244.toNat, 0]
def k0_off3713 (v6241 : BitVec 32) : Fin 2 → Nat :=
  let v6242 : BitVec 32 := v6241
  let c0_i32_3900 : BitVec 32 := 0#32
  ![v6242.toNat, 0]

def k0_chk924 (i : grid0.Coords) (v6241 : BitVec 32) : Prop :=
  (∀ (k0_h3 : k0_cond3 i = 1#1), 8 ∣ (k0_mult1847 v6241).toNat) ∧
  (∀ (k0_h3 : k0_cond3 i = 1#1), ∀ a, (k0_off3713 v6241) a + S8x128.size a ≤ S131072x128.size a)
theorem k0_mult1847_dvd : ∀ (i : grid0.Coords) (v6241 : BitVec 32) (k0_hw924 : k0_chk924 i v6241), ∀ (k0_h3 : k0_cond3 i = 1#1), 8 ∣ (k0_mult1847 v6241).toNat := fun i v6241 k0_hw924 k0_h3 => k0_hw924.1 k0_h3
theorem k0_off3713_inb : ∀ (i : grid0.Coords) (v6241 : BitVec 32) (k0_hw924 : k0_chk924 i v6241), ∀ (k0_h3 : k0_cond3 i = 1#1), ∀ a, (k0_off3713 v6241) a + S8x128.size a ≤ S131072x128.size a := fun i v6241 k0_hw924 k0_h3 => k0_hw924.2 k0_h3

def k0_off3714 (i : grid0.Coords) : Fin 3 → Nat :=
  let c0_3906 : Index := 0#32
  let c0_3907 : Index := 0#32
  let arg1 : BitVec 32 := BitVec.ofNat 32 (i 1).val
  let c2_i32_3901 : BitVec 32 := 2#32
  let v6250 : BitVec 32 := Scalar.muli arg1 c2_i32_3901
  let c1_i32_3902 : BitVec 32 := 1#32
  let v6251 : BitVec 32 := Scalar.addi v6250 c1_i32_3902
  let c256_i32_3903 : BitVec 32 := 256#32
  let v6252 : BitVec 32 := Scalar.muli v6251 c256_i32_3903
  let c155_i32_3904 : BitVec 32 := 155#32
  let v6253 : BitVec 32 := Scalar.addi v6252 c155_i32_3904
  let v6255 : Index := Scalar.indexCast v6253
  ![0, 0, v6255.toNat]
def k0_mult1849 (v6256 : BitVec 32) : BitVec 32 :=
  v6256

def k0_mult1850 (i : grid0.Coords) : BitVec 32 :=
  let arg1 : BitVec 32 := BitVec.ofNat 32 (i 1).val
  let c2_i32_3901 : BitVec 32 := 2#32
  let v6250 : BitVec 32 := Scalar.muli arg1 c2_i32_3901
  let c1_i32_3902 : BitVec 32 := 1#32
  let v6251 : BitVec 32 := Scalar.addi v6250 c1_i32_3902
  let c256_i32_3903 : BitVec 32 := 256#32
  let v6252 : BitVec 32 := Scalar.muli v6251 c256_i32_3903
  let c155_i32_3904 : BitVec 32 := 155#32
  let v6253 : BitVec 32 := Scalar.addi v6252 c155_i32_3904
  let c8_i32_3908 : BitVec 32 := 8#32
  let v6258 : BitVec 32 := Scalar.muli v6253 c8_i32_3908
  v6258
def k0_off3715 (i : grid0.Coords) : Fin 1 → Nat :=
  let c1_i32_3905 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6254 : BitVec 32 := Scalar.subi c1_i32_3905 v9
  ![v6254.toNat]
def k0_off3716 (i : grid0.Coords) : Fin 3 → Nat :=
  let c1_i32_3905 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6254 : BitVec 32 := Scalar.subi c1_i32_3905 v9
  let arg1 : BitVec 32 := BitVec.ofNat 32 (i 1).val
  let c2_i32_3901 : BitVec 32 := 2#32
  let v6250 : BitVec 32 := Scalar.muli arg1 c2_i32_3901
  let c1_i32_3902 : BitVec 32 := 1#32
  let v6251 : BitVec 32 := Scalar.addi v6250 c1_i32_3902
  let c256_i32_3903 : BitVec 32 := 256#32
  let v6252 : BitVec 32 := Scalar.muli v6251 c256_i32_3903
  let c155_i32_3904 : BitVec 32 := 155#32
  let v6253 : BitVec 32 := Scalar.addi v6252 c155_i32_3904
  let c8_i32_3908 : BitVec 32 := 8#32
  let v6258 : BitVec 32 := Scalar.muli v6253 c8_i32_3908
  let v6259 : BitVec 32 := v6258
  let c0_i32_3909 : BitVec 32 := 0#32
  ![v6254.toNat, v6259.toNat, 0]
def k0_off3717 (v6256 : BitVec 32) : Fin 2 → Nat :=
  let v6257 : BitVec 32 := v6256
  let c0_i32_3910 : BitVec 32 := 0#32
  ![v6257.toNat, 0]

def k0_chk925 (i : grid0.Coords) (v6256 : BitVec 32) : Prop :=
  (∀ (k0_h3 : k0_cond3 i = 1#1), 8 ∣ (k0_mult1849 v6256).toNat) ∧
  (∀ (k0_h3 : k0_cond3 i = 1#1), ∀ a, (k0_off3717 v6256) a + S8x128.size a ≤ S131072x128.size a)
theorem k0_mult1849_dvd : ∀ (i : grid0.Coords) (v6256 : BitVec 32) (k0_hw925 : k0_chk925 i v6256), ∀ (k0_h3 : k0_cond3 i = 1#1), 8 ∣ (k0_mult1849 v6256).toNat := fun i v6256 k0_hw925 k0_h3 => k0_hw925.1 k0_h3
theorem k0_off3717_inb : ∀ (i : grid0.Coords) (v6256 : BitVec 32) (k0_hw925 : k0_chk925 i v6256), ∀ (k0_h3 : k0_cond3 i = 1#1), ∀ a, (k0_off3717 v6256) a + S8x128.size a ≤ S131072x128.size a := fun i v6256 k0_hw925 k0_h3 => k0_hw925.2 k0_h3

def k0_off3718 (i : grid0.Coords) : Fin 3 → Nat :=
  let c0_3916 : Index := 0#32
  let c0_3917 : Index := 0#32
  let arg1 : BitVec 32 := BitVec.ofNat 32 (i 1).val
  let c2_i32_3911 : BitVec 32 := 2#32
  let v6265 : BitVec 32 := Scalar.muli arg1 c2_i32_3911
  let c1_i32_3912 : BitVec 32 := 1#32
  let v6266 : BitVec 32 := Scalar.addi v6265 c1_i32_3912
  let c256_i32_3913 : BitVec 32 := 256#32
  let v6267 : BitVec 32 := Scalar.muli v6266 c256_i32_3913
  let c156_i32_3914 : BitVec 32 := 156#32
  let v6268 : BitVec 32 := Scalar.addi v6267 c156_i32_3914
  let v6270 : Index := Scalar.indexCast v6268
  ![0, 0, v6270.toNat]
def k0_mult1851 (v6271 : BitVec 32) : BitVec 32 :=
  v6271

def k0_mult1852 (i : grid0.Coords) : BitVec 32 :=
  let arg1 : BitVec 32 := BitVec.ofNat 32 (i 1).val
  let c2_i32_3911 : BitVec 32 := 2#32
  let v6265 : BitVec 32 := Scalar.muli arg1 c2_i32_3911
  let c1_i32_3912 : BitVec 32 := 1#32
  let v6266 : BitVec 32 := Scalar.addi v6265 c1_i32_3912
  let c256_i32_3913 : BitVec 32 := 256#32
  let v6267 : BitVec 32 := Scalar.muli v6266 c256_i32_3913
  let c156_i32_3914 : BitVec 32 := 156#32
  let v6268 : BitVec 32 := Scalar.addi v6267 c156_i32_3914
  let c8_i32_3918 : BitVec 32 := 8#32
  let v6273 : BitVec 32 := Scalar.muli v6268 c8_i32_3918
  v6273
def k0_off3719 (i : grid0.Coords) : Fin 1 → Nat :=
  let c1_i32_3915 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6269 : BitVec 32 := Scalar.subi c1_i32_3915 v9
  ![v6269.toNat]
def k0_off3720 (i : grid0.Coords) : Fin 3 → Nat :=
  let c1_i32_3915 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6269 : BitVec 32 := Scalar.subi c1_i32_3915 v9
  let arg1 : BitVec 32 := BitVec.ofNat 32 (i 1).val
  let c2_i32_3911 : BitVec 32 := 2#32
  let v6265 : BitVec 32 := Scalar.muli arg1 c2_i32_3911
  let c1_i32_3912 : BitVec 32 := 1#32
  let v6266 : BitVec 32 := Scalar.addi v6265 c1_i32_3912
  let c256_i32_3913 : BitVec 32 := 256#32
  let v6267 : BitVec 32 := Scalar.muli v6266 c256_i32_3913
  let c156_i32_3914 : BitVec 32 := 156#32
  let v6268 : BitVec 32 := Scalar.addi v6267 c156_i32_3914
  let c8_i32_3918 : BitVec 32 := 8#32
  let v6273 : BitVec 32 := Scalar.muli v6268 c8_i32_3918
  let v6274 : BitVec 32 := v6273
  let c0_i32_3919 : BitVec 32 := 0#32
  ![v6269.toNat, v6274.toNat, 0]
def k0_off3721 (v6271 : BitVec 32) : Fin 2 → Nat :=
  let v6272 : BitVec 32 := v6271
  let c0_i32_3920 : BitVec 32 := 0#32
  ![v6272.toNat, 0]

def k0_chk926 (i : grid0.Coords) (v6271 : BitVec 32) : Prop :=
  (∀ (k0_h3 : k0_cond3 i = 1#1), 8 ∣ (k0_mult1851 v6271).toNat) ∧
  (∀ (k0_h3 : k0_cond3 i = 1#1), ∀ a, (k0_off3721 v6271) a + S8x128.size a ≤ S131072x128.size a)
theorem k0_mult1851_dvd : ∀ (i : grid0.Coords) (v6271 : BitVec 32) (k0_hw926 : k0_chk926 i v6271), ∀ (k0_h3 : k0_cond3 i = 1#1), 8 ∣ (k0_mult1851 v6271).toNat := fun i v6271 k0_hw926 k0_h3 => k0_hw926.1 k0_h3
theorem k0_off3721_inb : ∀ (i : grid0.Coords) (v6271 : BitVec 32) (k0_hw926 : k0_chk926 i v6271), ∀ (k0_h3 : k0_cond3 i = 1#1), ∀ a, (k0_off3721 v6271) a + S8x128.size a ≤ S131072x128.size a := fun i v6271 k0_hw926 k0_h3 => k0_hw926.2 k0_h3

def k0_off3722 (i : grid0.Coords) : Fin 3 → Nat :=
  let c0_3926 : Index := 0#32
  let c0_3927 : Index := 0#32
  let arg1 : BitVec 32 := BitVec.ofNat 32 (i 1).val
  let c2_i32_3921 : BitVec 32 := 2#32
  let v6280 : BitVec 32 := Scalar.muli arg1 c2_i32_3921
  let c1_i32_3922 : BitVec 32 := 1#32
  let v6281 : BitVec 32 := Scalar.addi v6280 c1_i32_3922
  let c256_i32_3923 : BitVec 32 := 256#32
  let v6282 : BitVec 32 := Scalar.muli v6281 c256_i32_3923
  let c157_i32_3924 : BitVec 32 := 157#32
  let v6283 : BitVec 32 := Scalar.addi v6282 c157_i32_3924
  let v6285 : Index := Scalar.indexCast v6283
  ![0, 0, v6285.toNat]
def k0_mult1853 (v6286 : BitVec 32) : BitVec 32 :=
  v6286

def k0_mult1854 (i : grid0.Coords) : BitVec 32 :=
  let arg1 : BitVec 32 := BitVec.ofNat 32 (i 1).val
  let c2_i32_3921 : BitVec 32 := 2#32
  let v6280 : BitVec 32 := Scalar.muli arg1 c2_i32_3921
  let c1_i32_3922 : BitVec 32 := 1#32
  let v6281 : BitVec 32 := Scalar.addi v6280 c1_i32_3922
  let c256_i32_3923 : BitVec 32 := 256#32
  let v6282 : BitVec 32 := Scalar.muli v6281 c256_i32_3923
  let c157_i32_3924 : BitVec 32 := 157#32
  let v6283 : BitVec 32 := Scalar.addi v6282 c157_i32_3924
  let c8_i32_3928 : BitVec 32 := 8#32
  let v6288 : BitVec 32 := Scalar.muli v6283 c8_i32_3928
  v6288
def k0_off3723 (i : grid0.Coords) : Fin 1 → Nat :=
  let c1_i32_3925 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6284 : BitVec 32 := Scalar.subi c1_i32_3925 v9
  ![v6284.toNat]
def k0_off3724 (i : grid0.Coords) : Fin 3 → Nat :=
  let c1_i32_3925 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6284 : BitVec 32 := Scalar.subi c1_i32_3925 v9
  let arg1 : BitVec 32 := BitVec.ofNat 32 (i 1).val
  let c2_i32_3921 : BitVec 32 := 2#32
  let v6280 : BitVec 32 := Scalar.muli arg1 c2_i32_3921
  let c1_i32_3922 : BitVec 32 := 1#32
  let v6281 : BitVec 32 := Scalar.addi v6280 c1_i32_3922
  let c256_i32_3923 : BitVec 32 := 256#32
  let v6282 : BitVec 32 := Scalar.muli v6281 c256_i32_3923
  let c157_i32_3924 : BitVec 32 := 157#32
  let v6283 : BitVec 32 := Scalar.addi v6282 c157_i32_3924
  let c8_i32_3928 : BitVec 32 := 8#32
  let v6288 : BitVec 32 := Scalar.muli v6283 c8_i32_3928
  let v6289 : BitVec 32 := v6288
  let c0_i32_3929 : BitVec 32 := 0#32
  ![v6284.toNat, v6289.toNat, 0]
def k0_off3725 (v6286 : BitVec 32) : Fin 2 → Nat :=
  let v6287 : BitVec 32 := v6286
  let c0_i32_3930 : BitVec 32 := 0#32
  ![v6287.toNat, 0]

def k0_chk927 (i : grid0.Coords) (v6286 : BitVec 32) : Prop :=
  (∀ (k0_h3 : k0_cond3 i = 1#1), 8 ∣ (k0_mult1853 v6286).toNat) ∧
  (∀ (k0_h3 : k0_cond3 i = 1#1), ∀ a, (k0_off3725 v6286) a + S8x128.size a ≤ S131072x128.size a)
theorem k0_mult1853_dvd : ∀ (i : grid0.Coords) (v6286 : BitVec 32) (k0_hw927 : k0_chk927 i v6286), ∀ (k0_h3 : k0_cond3 i = 1#1), 8 ∣ (k0_mult1853 v6286).toNat := fun i v6286 k0_hw927 k0_h3 => k0_hw927.1 k0_h3
theorem k0_off3725_inb : ∀ (i : grid0.Coords) (v6286 : BitVec 32) (k0_hw927 : k0_chk927 i v6286), ∀ (k0_h3 : k0_cond3 i = 1#1), ∀ a, (k0_off3725 v6286) a + S8x128.size a ≤ S131072x128.size a := fun i v6286 k0_hw927 k0_h3 => k0_hw927.2 k0_h3

def k0_off3726 (i : grid0.Coords) : Fin 3 → Nat :=
  let c0_3936 : Index := 0#32
  let c0_3937 : Index := 0#32
  let arg1 : BitVec 32 := BitVec.ofNat 32 (i 1).val
  let c2_i32_3931 : BitVec 32 := 2#32
  let v6295 : BitVec 32 := Scalar.muli arg1 c2_i32_3931
  let c1_i32_3932 : BitVec 32 := 1#32
  let v6296 : BitVec 32 := Scalar.addi v6295 c1_i32_3932
  let c256_i32_3933 : BitVec 32 := 256#32
  let v6297 : BitVec 32 := Scalar.muli v6296 c256_i32_3933
  let c158_i32_3934 : BitVec 32 := 158#32
  let v6298 : BitVec 32 := Scalar.addi v6297 c158_i32_3934
  let v6300 : Index := Scalar.indexCast v6298
  ![0, 0, v6300.toNat]
def k0_mult1855 (v6301 : BitVec 32) : BitVec 32 :=
  v6301

def k0_mult1856 (i : grid0.Coords) : BitVec 32 :=
  let arg1 : BitVec 32 := BitVec.ofNat 32 (i 1).val
  let c2_i32_3931 : BitVec 32 := 2#32
  let v6295 : BitVec 32 := Scalar.muli arg1 c2_i32_3931
  let c1_i32_3932 : BitVec 32 := 1#32
  let v6296 : BitVec 32 := Scalar.addi v6295 c1_i32_3932
  let c256_i32_3933 : BitVec 32 := 256#32
  let v6297 : BitVec 32 := Scalar.muli v6296 c256_i32_3933
  let c158_i32_3934 : BitVec 32 := 158#32
  let v6298 : BitVec 32 := Scalar.addi v6297 c158_i32_3934
  let c8_i32_3938 : BitVec 32 := 8#32
  let v6303 : BitVec 32 := Scalar.muli v6298 c8_i32_3938
  v6303
def k0_off3727 (i : grid0.Coords) : Fin 1 → Nat :=
  let c1_i32_3935 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6299 : BitVec 32 := Scalar.subi c1_i32_3935 v9
  ![v6299.toNat]
def k0_off3728 (i : grid0.Coords) : Fin 3 → Nat :=
  let c1_i32_3935 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6299 : BitVec 32 := Scalar.subi c1_i32_3935 v9
  let arg1 : BitVec 32 := BitVec.ofNat 32 (i 1).val
  let c2_i32_3931 : BitVec 32 := 2#32
  let v6295 : BitVec 32 := Scalar.muli arg1 c2_i32_3931
  let c1_i32_3932 : BitVec 32 := 1#32
  let v6296 : BitVec 32 := Scalar.addi v6295 c1_i32_3932
  let c256_i32_3933 : BitVec 32 := 256#32
  let v6297 : BitVec 32 := Scalar.muli v6296 c256_i32_3933
  let c158_i32_3934 : BitVec 32 := 158#32
  let v6298 : BitVec 32 := Scalar.addi v6297 c158_i32_3934
  let c8_i32_3938 : BitVec 32 := 8#32
  let v6303 : BitVec 32 := Scalar.muli v6298 c8_i32_3938
  let v6304 : BitVec 32 := v6303
  let c0_i32_3939 : BitVec 32 := 0#32
  ![v6299.toNat, v6304.toNat, 0]
def k0_off3729 (v6301 : BitVec 32) : Fin 2 → Nat :=
  let v6302 : BitVec 32 := v6301
  let c0_i32_3940 : BitVec 32 := 0#32
  ![v6302.toNat, 0]

def k0_chk928 (i : grid0.Coords) (v6301 : BitVec 32) : Prop :=
  (∀ (k0_h3 : k0_cond3 i = 1#1), 8 ∣ (k0_mult1855 v6301).toNat) ∧
  (∀ (k0_h3 : k0_cond3 i = 1#1), ∀ a, (k0_off3729 v6301) a + S8x128.size a ≤ S131072x128.size a)
theorem k0_mult1855_dvd : ∀ (i : grid0.Coords) (v6301 : BitVec 32) (k0_hw928 : k0_chk928 i v6301), ∀ (k0_h3 : k0_cond3 i = 1#1), 8 ∣ (k0_mult1855 v6301).toNat := fun i v6301 k0_hw928 k0_h3 => k0_hw928.1 k0_h3
theorem k0_off3729_inb : ∀ (i : grid0.Coords) (v6301 : BitVec 32) (k0_hw928 : k0_chk928 i v6301), ∀ (k0_h3 : k0_cond3 i = 1#1), ∀ a, (k0_off3729 v6301) a + S8x128.size a ≤ S131072x128.size a := fun i v6301 k0_hw928 k0_h3 => k0_hw928.2 k0_h3

def k0_off3730 (i : grid0.Coords) : Fin 3 → Nat :=
  let c0_3946 : Index := 0#32
  let c0_3947 : Index := 0#32
  let arg1 : BitVec 32 := BitVec.ofNat 32 (i 1).val
  let c2_i32_3941 : BitVec 32 := 2#32
  let v6310 : BitVec 32 := Scalar.muli arg1 c2_i32_3941
  let c1_i32_3942 : BitVec 32 := 1#32
  let v6311 : BitVec 32 := Scalar.addi v6310 c1_i32_3942
  let c256_i32_3943 : BitVec 32 := 256#32
  let v6312 : BitVec 32 := Scalar.muli v6311 c256_i32_3943
  let c159_i32_3944 : BitVec 32 := 159#32
  let v6313 : BitVec 32 := Scalar.addi v6312 c159_i32_3944
  let v6315 : Index := Scalar.indexCast v6313
  ![0, 0, v6315.toNat]
def k0_mult1857 (v6316 : BitVec 32) : BitVec 32 :=
  v6316

def k0_mult1858 (i : grid0.Coords) : BitVec 32 :=
  let arg1 : BitVec 32 := BitVec.ofNat 32 (i 1).val
  let c2_i32_3941 : BitVec 32 := 2#32
  let v6310 : BitVec 32 := Scalar.muli arg1 c2_i32_3941
  let c1_i32_3942 : BitVec 32 := 1#32
  let v6311 : BitVec 32 := Scalar.addi v6310 c1_i32_3942
  let c256_i32_3943 : BitVec 32 := 256#32
  let v6312 : BitVec 32 := Scalar.muli v6311 c256_i32_3943
  let c159_i32_3944 : BitVec 32 := 159#32
  let v6313 : BitVec 32 := Scalar.addi v6312 c159_i32_3944
  let c8_i32_3948 : BitVec 32 := 8#32
  let v6318 : BitVec 32 := Scalar.muli v6313 c8_i32_3948
  v6318
def k0_off3731 (i : grid0.Coords) : Fin 1 → Nat :=
  let c1_i32_3945 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6314 : BitVec 32 := Scalar.subi c1_i32_3945 v9
  ![v6314.toNat]
def k0_off3732 (i : grid0.Coords) : Fin 3 → Nat :=
  let c1_i32_3945 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6314 : BitVec 32 := Scalar.subi c1_i32_3945 v9
  let arg1 : BitVec 32 := BitVec.ofNat 32 (i 1).val
  let c2_i32_3941 : BitVec 32 := 2#32
  let v6310 : BitVec 32 := Scalar.muli arg1 c2_i32_3941
  let c1_i32_3942 : BitVec 32 := 1#32
  let v6311 : BitVec 32 := Scalar.addi v6310 c1_i32_3942
  let c256_i32_3943 : BitVec 32 := 256#32
  let v6312 : BitVec 32 := Scalar.muli v6311 c256_i32_3943
  let c159_i32_3944 : BitVec 32 := 159#32
  let v6313 : BitVec 32 := Scalar.addi v6312 c159_i32_3944
  let c8_i32_3948 : BitVec 32 := 8#32
  let v6318 : BitVec 32 := Scalar.muli v6313 c8_i32_3948
  let v6319 : BitVec 32 := v6318
  let c0_i32_3949 : BitVec 32 := 0#32
  ![v6314.toNat, v6319.toNat, 0]
def k0_off3733 (v6316 : BitVec 32) : Fin 2 → Nat :=
  let v6317 : BitVec 32 := v6316
  let c0_i32_3950 : BitVec 32 := 0#32
  ![v6317.toNat, 0]

def k0_chk929 (i : grid0.Coords) (v6316 : BitVec 32) : Prop :=
  (∀ (k0_h3 : k0_cond3 i = 1#1), 8 ∣ (k0_mult1857 v6316).toNat) ∧
  (∀ (k0_h3 : k0_cond3 i = 1#1), ∀ a, (k0_off3733 v6316) a + S8x128.size a ≤ S131072x128.size a)
theorem k0_mult1857_dvd : ∀ (i : grid0.Coords) (v6316 : BitVec 32) (k0_hw929 : k0_chk929 i v6316), ∀ (k0_h3 : k0_cond3 i = 1#1), 8 ∣ (k0_mult1857 v6316).toNat := fun i v6316 k0_hw929 k0_h3 => k0_hw929.1 k0_h3
theorem k0_off3733_inb : ∀ (i : grid0.Coords) (v6316 : BitVec 32) (k0_hw929 : k0_chk929 i v6316), ∀ (k0_h3 : k0_cond3 i = 1#1), ∀ a, (k0_off3733 v6316) a + S8x128.size a ≤ S131072x128.size a := fun i v6316 k0_hw929 k0_h3 => k0_hw929.2 k0_h3

def k0_off3734 (i : grid0.Coords) : Fin 3 → Nat :=
  let c0_3956 : Index := 0#32
  let c0_3957 : Index := 0#32
  let arg1 : BitVec 32 := BitVec.ofNat 32 (i 1).val
  let c2_i32_3951 : BitVec 32 := 2#32
  let v6325 : BitVec 32 := Scalar.muli arg1 c2_i32_3951
  let c1_i32_3952 : BitVec 32 := 1#32
  let v6326 : BitVec 32 := Scalar.addi v6325 c1_i32_3952
  let c256_i32_3953 : BitVec 32 := 256#32
  let v6327 : BitVec 32 := Scalar.muli v6326 c256_i32_3953
  let c160_i32_3954 : BitVec 32 := 160#32
  let v6328 : BitVec 32 := Scalar.addi v6327 c160_i32_3954
  let v6330 : Index := Scalar.indexCast v6328
  ![0, 0, v6330.toNat]
def k0_mult1859 (v6331 : BitVec 32) : BitVec 32 :=
  v6331

def k0_mult1860 (i : grid0.Coords) : BitVec 32 :=
  let arg1 : BitVec 32 := BitVec.ofNat 32 (i 1).val
  let c2_i32_3951 : BitVec 32 := 2#32
  let v6325 : BitVec 32 := Scalar.muli arg1 c2_i32_3951
  let c1_i32_3952 : BitVec 32 := 1#32
  let v6326 : BitVec 32 := Scalar.addi v6325 c1_i32_3952
  let c256_i32_3953 : BitVec 32 := 256#32
  let v6327 : BitVec 32 := Scalar.muli v6326 c256_i32_3953
  let c160_i32_3954 : BitVec 32 := 160#32
  let v6328 : BitVec 32 := Scalar.addi v6327 c160_i32_3954
  let c8_i32_3958 : BitVec 32 := 8#32
  let v6333 : BitVec 32 := Scalar.muli v6328 c8_i32_3958
  v6333
def k0_off3735 (i : grid0.Coords) : Fin 1 → Nat :=
  let c1_i32_3955 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6329 : BitVec 32 := Scalar.subi c1_i32_3955 v9
  ![v6329.toNat]
def k0_off3736 (i : grid0.Coords) : Fin 3 → Nat :=
  let c1_i32_3955 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6329 : BitVec 32 := Scalar.subi c1_i32_3955 v9
  let arg1 : BitVec 32 := BitVec.ofNat 32 (i 1).val
  let c2_i32_3951 : BitVec 32 := 2#32
  let v6325 : BitVec 32 := Scalar.muli arg1 c2_i32_3951
  let c1_i32_3952 : BitVec 32 := 1#32
  let v6326 : BitVec 32 := Scalar.addi v6325 c1_i32_3952
  let c256_i32_3953 : BitVec 32 := 256#32
  let v6327 : BitVec 32 := Scalar.muli v6326 c256_i32_3953
  let c160_i32_3954 : BitVec 32 := 160#32
  let v6328 : BitVec 32 := Scalar.addi v6327 c160_i32_3954
  let c8_i32_3958 : BitVec 32 := 8#32
  let v6333 : BitVec 32 := Scalar.muli v6328 c8_i32_3958
  let v6334 : BitVec 32 := v6333
  let c0_i32_3959 : BitVec 32 := 0#32
  ![v6329.toNat, v6334.toNat, 0]
def k0_off3737 (v6331 : BitVec 32) : Fin 2 → Nat :=
  let v6332 : BitVec 32 := v6331
  let c0_i32_3960 : BitVec 32 := 0#32
  ![v6332.toNat, 0]

def k0_chk930 (i : grid0.Coords) (v6331 : BitVec 32) : Prop :=
  (∀ (k0_h3 : k0_cond3 i = 1#1), 8 ∣ (k0_mult1859 v6331).toNat) ∧
  (∀ (k0_h3 : k0_cond3 i = 1#1), ∀ a, (k0_off3737 v6331) a + S8x128.size a ≤ S131072x128.size a)
theorem k0_mult1859_dvd : ∀ (i : grid0.Coords) (v6331 : BitVec 32) (k0_hw930 : k0_chk930 i v6331), ∀ (k0_h3 : k0_cond3 i = 1#1), 8 ∣ (k0_mult1859 v6331).toNat := fun i v6331 k0_hw930 k0_h3 => k0_hw930.1 k0_h3
theorem k0_off3737_inb : ∀ (i : grid0.Coords) (v6331 : BitVec 32) (k0_hw930 : k0_chk930 i v6331), ∀ (k0_h3 : k0_cond3 i = 1#1), ∀ a, (k0_off3737 v6331) a + S8x128.size a ≤ S131072x128.size a := fun i v6331 k0_hw930 k0_h3 => k0_hw930.2 k0_h3

def k0_off3738 (i : grid0.Coords) : Fin 3 → Nat :=
  let c0_3966 : Index := 0#32
  let c0_3967 : Index := 0#32
  let arg1 : BitVec 32 := BitVec.ofNat 32 (i 1).val
  let c2_i32_3961 : BitVec 32 := 2#32
  let v6340 : BitVec 32 := Scalar.muli arg1 c2_i32_3961
  let c1_i32_3962 : BitVec 32 := 1#32
  let v6341 : BitVec 32 := Scalar.addi v6340 c1_i32_3962
  let c256_i32_3963 : BitVec 32 := 256#32
  let v6342 : BitVec 32 := Scalar.muli v6341 c256_i32_3963
  let c161_i32_3964 : BitVec 32 := 161#32
  let v6343 : BitVec 32 := Scalar.addi v6342 c161_i32_3964
  let v6345 : Index := Scalar.indexCast v6343
  ![0, 0, v6345.toNat]
def k0_mult1861 (v6346 : BitVec 32) : BitVec 32 :=
  v6346

def k0_mult1862 (i : grid0.Coords) : BitVec 32 :=
  let arg1 : BitVec 32 := BitVec.ofNat 32 (i 1).val
  let c2_i32_3961 : BitVec 32 := 2#32
  let v6340 : BitVec 32 := Scalar.muli arg1 c2_i32_3961
  let c1_i32_3962 : BitVec 32 := 1#32
  let v6341 : BitVec 32 := Scalar.addi v6340 c1_i32_3962
  let c256_i32_3963 : BitVec 32 := 256#32
  let v6342 : BitVec 32 := Scalar.muli v6341 c256_i32_3963
  let c161_i32_3964 : BitVec 32 := 161#32
  let v6343 : BitVec 32 := Scalar.addi v6342 c161_i32_3964
  let c8_i32_3968 : BitVec 32 := 8#32
  let v6348 : BitVec 32 := Scalar.muli v6343 c8_i32_3968
  v6348
def k0_off3739 (i : grid0.Coords) : Fin 1 → Nat :=
  let c1_i32_3965 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6344 : BitVec 32 := Scalar.subi c1_i32_3965 v9
  ![v6344.toNat]
def k0_off3740 (i : grid0.Coords) : Fin 3 → Nat :=
  let c1_i32_3965 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6344 : BitVec 32 := Scalar.subi c1_i32_3965 v9
  let arg1 : BitVec 32 := BitVec.ofNat 32 (i 1).val
  let c2_i32_3961 : BitVec 32 := 2#32
  let v6340 : BitVec 32 := Scalar.muli arg1 c2_i32_3961
  let c1_i32_3962 : BitVec 32 := 1#32
  let v6341 : BitVec 32 := Scalar.addi v6340 c1_i32_3962
  let c256_i32_3963 : BitVec 32 := 256#32
  let v6342 : BitVec 32 := Scalar.muli v6341 c256_i32_3963
  let c161_i32_3964 : BitVec 32 := 161#32
  let v6343 : BitVec 32 := Scalar.addi v6342 c161_i32_3964
  let c8_i32_3968 : BitVec 32 := 8#32
  let v6348 : BitVec 32 := Scalar.muli v6343 c8_i32_3968
  let v6349 : BitVec 32 := v6348
  let c0_i32_3969 : BitVec 32 := 0#32
  ![v6344.toNat, v6349.toNat, 0]
def k0_off3741 (v6346 : BitVec 32) : Fin 2 → Nat :=
  let v6347 : BitVec 32 := v6346
  let c0_i32_3970 : BitVec 32 := 0#32
  ![v6347.toNat, 0]

def k0_chk931 (i : grid0.Coords) (v6346 : BitVec 32) : Prop :=
  (∀ (k0_h3 : k0_cond3 i = 1#1), 8 ∣ (k0_mult1861 v6346).toNat) ∧
  (∀ (k0_h3 : k0_cond3 i = 1#1), ∀ a, (k0_off3741 v6346) a + S8x128.size a ≤ S131072x128.size a)
theorem k0_mult1861_dvd : ∀ (i : grid0.Coords) (v6346 : BitVec 32) (k0_hw931 : k0_chk931 i v6346), ∀ (k0_h3 : k0_cond3 i = 1#1), 8 ∣ (k0_mult1861 v6346).toNat := fun i v6346 k0_hw931 k0_h3 => k0_hw931.1 k0_h3
theorem k0_off3741_inb : ∀ (i : grid0.Coords) (v6346 : BitVec 32) (k0_hw931 : k0_chk931 i v6346), ∀ (k0_h3 : k0_cond3 i = 1#1), ∀ a, (k0_off3741 v6346) a + S8x128.size a ≤ S131072x128.size a := fun i v6346 k0_hw931 k0_h3 => k0_hw931.2 k0_h3

def k0_off3742 (i : grid0.Coords) : Fin 3 → Nat :=
  let c0_3976 : Index := 0#32
  let c0_3977 : Index := 0#32
  let arg1 : BitVec 32 := BitVec.ofNat 32 (i 1).val
  let c2_i32_3971 : BitVec 32 := 2#32
  let v6355 : BitVec 32 := Scalar.muli arg1 c2_i32_3971
  let c1_i32_3972 : BitVec 32 := 1#32
  let v6356 : BitVec 32 := Scalar.addi v6355 c1_i32_3972
  let c256_i32_3973 : BitVec 32 := 256#32
  let v6357 : BitVec 32 := Scalar.muli v6356 c256_i32_3973
  let c162_i32_3974 : BitVec 32 := 162#32
  let v6358 : BitVec 32 := Scalar.addi v6357 c162_i32_3974
  let v6360 : Index := Scalar.indexCast v6358
  ![0, 0, v6360.toNat]
def k0_mult1863 (v6361 : BitVec 32) : BitVec 32 :=
  v6361

def k0_mult1864 (i : grid0.Coords) : BitVec 32 :=
  let arg1 : BitVec 32 := BitVec.ofNat 32 (i 1).val
  let c2_i32_3971 : BitVec 32 := 2#32
  let v6355 : BitVec 32 := Scalar.muli arg1 c2_i32_3971
  let c1_i32_3972 : BitVec 32 := 1#32
  let v6356 : BitVec 32 := Scalar.addi v6355 c1_i32_3972
  let c256_i32_3973 : BitVec 32 := 256#32
  let v6357 : BitVec 32 := Scalar.muli v6356 c256_i32_3973
  let c162_i32_3974 : BitVec 32 := 162#32
  let v6358 : BitVec 32 := Scalar.addi v6357 c162_i32_3974
  let c8_i32_3978 : BitVec 32 := 8#32
  let v6363 : BitVec 32 := Scalar.muli v6358 c8_i32_3978
  v6363
def k0_off3743 (i : grid0.Coords) : Fin 1 → Nat :=
  let c1_i32_3975 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6359 : BitVec 32 := Scalar.subi c1_i32_3975 v9
  ![v6359.toNat]
def k0_off3744 (i : grid0.Coords) : Fin 3 → Nat :=
  let c1_i32_3975 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6359 : BitVec 32 := Scalar.subi c1_i32_3975 v9
  let arg1 : BitVec 32 := BitVec.ofNat 32 (i 1).val
  let c2_i32_3971 : BitVec 32 := 2#32
  let v6355 : BitVec 32 := Scalar.muli arg1 c2_i32_3971
  let c1_i32_3972 : BitVec 32 := 1#32
  let v6356 : BitVec 32 := Scalar.addi v6355 c1_i32_3972
  let c256_i32_3973 : BitVec 32 := 256#32
  let v6357 : BitVec 32 := Scalar.muli v6356 c256_i32_3973
  let c162_i32_3974 : BitVec 32 := 162#32
  let v6358 : BitVec 32 := Scalar.addi v6357 c162_i32_3974
  let c8_i32_3978 : BitVec 32 := 8#32
  let v6363 : BitVec 32 := Scalar.muli v6358 c8_i32_3978
  let v6364 : BitVec 32 := v6363
  let c0_i32_3979 : BitVec 32 := 0#32
  ![v6359.toNat, v6364.toNat, 0]
def k0_off3745 (v6361 : BitVec 32) : Fin 2 → Nat :=
  let v6362 : BitVec 32 := v6361
  let c0_i32_3980 : BitVec 32 := 0#32
  ![v6362.toNat, 0]

def k0_chk932 (i : grid0.Coords) (v6361 : BitVec 32) : Prop :=
  (∀ (k0_h3 : k0_cond3 i = 1#1), 8 ∣ (k0_mult1863 v6361).toNat) ∧
  (∀ (k0_h3 : k0_cond3 i = 1#1), ∀ a, (k0_off3745 v6361) a + S8x128.size a ≤ S131072x128.size a)
theorem k0_mult1863_dvd : ∀ (i : grid0.Coords) (v6361 : BitVec 32) (k0_hw932 : k0_chk932 i v6361), ∀ (k0_h3 : k0_cond3 i = 1#1), 8 ∣ (k0_mult1863 v6361).toNat := fun i v6361 k0_hw932 k0_h3 => k0_hw932.1 k0_h3
theorem k0_off3745_inb : ∀ (i : grid0.Coords) (v6361 : BitVec 32) (k0_hw932 : k0_chk932 i v6361), ∀ (k0_h3 : k0_cond3 i = 1#1), ∀ a, (k0_off3745 v6361) a + S8x128.size a ≤ S131072x128.size a := fun i v6361 k0_hw932 k0_h3 => k0_hw932.2 k0_h3

def k0_off3746 (i : grid0.Coords) : Fin 3 → Nat :=
  let c0_3986 : Index := 0#32
  let c0_3987 : Index := 0#32
  let arg1 : BitVec 32 := BitVec.ofNat 32 (i 1).val
  let c2_i32_3981 : BitVec 32 := 2#32
  let v6370 : BitVec 32 := Scalar.muli arg1 c2_i32_3981
  let c1_i32_3982 : BitVec 32 := 1#32
  let v6371 : BitVec 32 := Scalar.addi v6370 c1_i32_3982
  let c256_i32_3983 : BitVec 32 := 256#32
  let v6372 : BitVec 32 := Scalar.muli v6371 c256_i32_3983
  let c163_i32_3984 : BitVec 32 := 163#32
  let v6373 : BitVec 32 := Scalar.addi v6372 c163_i32_3984
  let v6375 : Index := Scalar.indexCast v6373
  ![0, 0, v6375.toNat]
def k0_mult1865 (v6376 : BitVec 32) : BitVec 32 :=
  v6376

def k0_mult1866 (i : grid0.Coords) : BitVec 32 :=
  let arg1 : BitVec 32 := BitVec.ofNat 32 (i 1).val
  let c2_i32_3981 : BitVec 32 := 2#32
  let v6370 : BitVec 32 := Scalar.muli arg1 c2_i32_3981
  let c1_i32_3982 : BitVec 32 := 1#32
  let v6371 : BitVec 32 := Scalar.addi v6370 c1_i32_3982
  let c256_i32_3983 : BitVec 32 := 256#32
  let v6372 : BitVec 32 := Scalar.muli v6371 c256_i32_3983
  let c163_i32_3984 : BitVec 32 := 163#32
  let v6373 : BitVec 32 := Scalar.addi v6372 c163_i32_3984
  let c8_i32_3988 : BitVec 32 := 8#32
  let v6378 : BitVec 32 := Scalar.muli v6373 c8_i32_3988
  v6378
def k0_off3747 (i : grid0.Coords) : Fin 1 → Nat :=
  let c1_i32_3985 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6374 : BitVec 32 := Scalar.subi c1_i32_3985 v9
  ![v6374.toNat]
def k0_off3748 (i : grid0.Coords) : Fin 3 → Nat :=
  let c1_i32_3985 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6374 : BitVec 32 := Scalar.subi c1_i32_3985 v9
  let arg1 : BitVec 32 := BitVec.ofNat 32 (i 1).val
  let c2_i32_3981 : BitVec 32 := 2#32
  let v6370 : BitVec 32 := Scalar.muli arg1 c2_i32_3981
  let c1_i32_3982 : BitVec 32 := 1#32
  let v6371 : BitVec 32 := Scalar.addi v6370 c1_i32_3982
  let c256_i32_3983 : BitVec 32 := 256#32
  let v6372 : BitVec 32 := Scalar.muli v6371 c256_i32_3983
  let c163_i32_3984 : BitVec 32 := 163#32
  let v6373 : BitVec 32 := Scalar.addi v6372 c163_i32_3984
  let c8_i32_3988 : BitVec 32 := 8#32
  let v6378 : BitVec 32 := Scalar.muli v6373 c8_i32_3988
  let v6379 : BitVec 32 := v6378
  let c0_i32_3989 : BitVec 32 := 0#32
  ![v6374.toNat, v6379.toNat, 0]
def k0_off3749 (v6376 : BitVec 32) : Fin 2 → Nat :=
  let v6377 : BitVec 32 := v6376
  let c0_i32_3990 : BitVec 32 := 0#32
  ![v6377.toNat, 0]

def k0_chk933 (i : grid0.Coords) (v6376 : BitVec 32) : Prop :=
  (∀ (k0_h3 : k0_cond3 i = 1#1), 8 ∣ (k0_mult1865 v6376).toNat) ∧
  (∀ (k0_h3 : k0_cond3 i = 1#1), ∀ a, (k0_off3749 v6376) a + S8x128.size a ≤ S131072x128.size a)
theorem k0_mult1865_dvd : ∀ (i : grid0.Coords) (v6376 : BitVec 32) (k0_hw933 : k0_chk933 i v6376), ∀ (k0_h3 : k0_cond3 i = 1#1), 8 ∣ (k0_mult1865 v6376).toNat := fun i v6376 k0_hw933 k0_h3 => k0_hw933.1 k0_h3
theorem k0_off3749_inb : ∀ (i : grid0.Coords) (v6376 : BitVec 32) (k0_hw933 : k0_chk933 i v6376), ∀ (k0_h3 : k0_cond3 i = 1#1), ∀ a, (k0_off3749 v6376) a + S8x128.size a ≤ S131072x128.size a := fun i v6376 k0_hw933 k0_h3 => k0_hw933.2 k0_h3

def k0_off3750 (i : grid0.Coords) : Fin 3 → Nat :=
  let c0_3996 : Index := 0#32
  let c0_3997 : Index := 0#32
  let arg1 : BitVec 32 := BitVec.ofNat 32 (i 1).val
  let c2_i32_3991 : BitVec 32 := 2#32
  let v6385 : BitVec 32 := Scalar.muli arg1 c2_i32_3991
  let c1_i32_3992 : BitVec 32 := 1#32
  let v6386 : BitVec 32 := Scalar.addi v6385 c1_i32_3992
  let c256_i32_3993 : BitVec 32 := 256#32
  let v6387 : BitVec 32 := Scalar.muli v6386 c256_i32_3993
  let c164_i32_3994 : BitVec 32 := 164#32
  let v6388 : BitVec 32 := Scalar.addi v6387 c164_i32_3994
  let v6390 : Index := Scalar.indexCast v6388
  ![0, 0, v6390.toNat]
def k0_mult1867 (v6391 : BitVec 32) : BitVec 32 :=
  v6391

def k0_mult1868 (i : grid0.Coords) : BitVec 32 :=
  let arg1 : BitVec 32 := BitVec.ofNat 32 (i 1).val
  let c2_i32_3991 : BitVec 32 := 2#32
  let v6385 : BitVec 32 := Scalar.muli arg1 c2_i32_3991
  let c1_i32_3992 : BitVec 32 := 1#32
  let v6386 : BitVec 32 := Scalar.addi v6385 c1_i32_3992
  let c256_i32_3993 : BitVec 32 := 256#32
  let v6387 : BitVec 32 := Scalar.muli v6386 c256_i32_3993
  let c164_i32_3994 : BitVec 32 := 164#32
  let v6388 : BitVec 32 := Scalar.addi v6387 c164_i32_3994
  let c8_i32_3998 : BitVec 32 := 8#32
  let v6393 : BitVec 32 := Scalar.muli v6388 c8_i32_3998
  v6393
def k0_off3751 (i : grid0.Coords) : Fin 1 → Nat :=
  let c1_i32_3995 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6389 : BitVec 32 := Scalar.subi c1_i32_3995 v9
  ![v6389.toNat]
def k0_off3752 (i : grid0.Coords) : Fin 3 → Nat :=
  let c1_i32_3995 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6389 : BitVec 32 := Scalar.subi c1_i32_3995 v9
  let arg1 : BitVec 32 := BitVec.ofNat 32 (i 1).val
  let c2_i32_3991 : BitVec 32 := 2#32
  let v6385 : BitVec 32 := Scalar.muli arg1 c2_i32_3991
  let c1_i32_3992 : BitVec 32 := 1#32
  let v6386 : BitVec 32 := Scalar.addi v6385 c1_i32_3992
  let c256_i32_3993 : BitVec 32 := 256#32
  let v6387 : BitVec 32 := Scalar.muli v6386 c256_i32_3993
  let c164_i32_3994 : BitVec 32 := 164#32
  let v6388 : BitVec 32 := Scalar.addi v6387 c164_i32_3994
  let c8_i32_3998 : BitVec 32 := 8#32
  let v6393 : BitVec 32 := Scalar.muli v6388 c8_i32_3998
  let v6394 : BitVec 32 := v6393
  let c0_i32_3999 : BitVec 32 := 0#32
  ![v6389.toNat, v6394.toNat, 0]
def k0_off3753 (v6391 : BitVec 32) : Fin 2 → Nat :=
  let v6392 : BitVec 32 := v6391
  let c0_i32_4000 : BitVec 32 := 0#32
  ![v6392.toNat, 0]

def k0_chk934 (i : grid0.Coords) (v6391 : BitVec 32) : Prop :=
  (∀ (k0_h3 : k0_cond3 i = 1#1), 8 ∣ (k0_mult1867 v6391).toNat) ∧
  (∀ (k0_h3 : k0_cond3 i = 1#1), ∀ a, (k0_off3753 v6391) a + S8x128.size a ≤ S131072x128.size a)
theorem k0_mult1867_dvd : ∀ (i : grid0.Coords) (v6391 : BitVec 32) (k0_hw934 : k0_chk934 i v6391), ∀ (k0_h3 : k0_cond3 i = 1#1), 8 ∣ (k0_mult1867 v6391).toNat := fun i v6391 k0_hw934 k0_h3 => k0_hw934.1 k0_h3
theorem k0_off3753_inb : ∀ (i : grid0.Coords) (v6391 : BitVec 32) (k0_hw934 : k0_chk934 i v6391), ∀ (k0_h3 : k0_cond3 i = 1#1), ∀ a, (k0_off3753 v6391) a + S8x128.size a ≤ S131072x128.size a := fun i v6391 k0_hw934 k0_h3 => k0_hw934.2 k0_h3

def k0_off3754 (i : grid0.Coords) : Fin 3 → Nat :=
  let c0_4006 : Index := 0#32
  let c0_4007 : Index := 0#32
  let arg1 : BitVec 32 := BitVec.ofNat 32 (i 1).val
  let c2_i32_4001 : BitVec 32 := 2#32
  let v6400 : BitVec 32 := Scalar.muli arg1 c2_i32_4001
  let c1_i32_4002 : BitVec 32 := 1#32
  let v6401 : BitVec 32 := Scalar.addi v6400 c1_i32_4002
  let c256_i32_4003 : BitVec 32 := 256#32
  let v6402 : BitVec 32 := Scalar.muli v6401 c256_i32_4003
  let c165_i32_4004 : BitVec 32 := 165#32
  let v6403 : BitVec 32 := Scalar.addi v6402 c165_i32_4004
  let v6405 : Index := Scalar.indexCast v6403
  ![0, 0, v6405.toNat]
def k0_mult1869 (v6406 : BitVec 32) : BitVec 32 :=
  v6406

def k0_mult1870 (i : grid0.Coords) : BitVec 32 :=
  let arg1 : BitVec 32 := BitVec.ofNat 32 (i 1).val
  let c2_i32_4001 : BitVec 32 := 2#32
  let v6400 : BitVec 32 := Scalar.muli arg1 c2_i32_4001
  let c1_i32_4002 : BitVec 32 := 1#32
  let v6401 : BitVec 32 := Scalar.addi v6400 c1_i32_4002
  let c256_i32_4003 : BitVec 32 := 256#32
  let v6402 : BitVec 32 := Scalar.muli v6401 c256_i32_4003
  let c165_i32_4004 : BitVec 32 := 165#32
  let v6403 : BitVec 32 := Scalar.addi v6402 c165_i32_4004
  let c8_i32_4008 : BitVec 32 := 8#32
  let v6408 : BitVec 32 := Scalar.muli v6403 c8_i32_4008
  v6408
def k0_off3755 (i : grid0.Coords) : Fin 1 → Nat :=
  let c1_i32_4005 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6404 : BitVec 32 := Scalar.subi c1_i32_4005 v9
  ![v6404.toNat]
def k0_off3756 (i : grid0.Coords) : Fin 3 → Nat :=
  let c1_i32_4005 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6404 : BitVec 32 := Scalar.subi c1_i32_4005 v9
  let arg1 : BitVec 32 := BitVec.ofNat 32 (i 1).val
  let c2_i32_4001 : BitVec 32 := 2#32
  let v6400 : BitVec 32 := Scalar.muli arg1 c2_i32_4001
  let c1_i32_4002 : BitVec 32 := 1#32
  let v6401 : BitVec 32 := Scalar.addi v6400 c1_i32_4002
  let c256_i32_4003 : BitVec 32 := 256#32
  let v6402 : BitVec 32 := Scalar.muli v6401 c256_i32_4003
  let c165_i32_4004 : BitVec 32 := 165#32
  let v6403 : BitVec 32 := Scalar.addi v6402 c165_i32_4004
  let c8_i32_4008 : BitVec 32 := 8#32
  let v6408 : BitVec 32 := Scalar.muli v6403 c8_i32_4008
  let v6409 : BitVec 32 := v6408
  let c0_i32_4009 : BitVec 32 := 0#32
  ![v6404.toNat, v6409.toNat, 0]
def k0_off3757 (v6406 : BitVec 32) : Fin 2 → Nat :=
  let v6407 : BitVec 32 := v6406
  let c0_i32_4010 : BitVec 32 := 0#32
  ![v6407.toNat, 0]

def k0_chk935 (i : grid0.Coords) (v6406 : BitVec 32) : Prop :=
  (∀ (k0_h3 : k0_cond3 i = 1#1), 8 ∣ (k0_mult1869 v6406).toNat) ∧
  (∀ (k0_h3 : k0_cond3 i = 1#1), ∀ a, (k0_off3757 v6406) a + S8x128.size a ≤ S131072x128.size a)
theorem k0_mult1869_dvd : ∀ (i : grid0.Coords) (v6406 : BitVec 32) (k0_hw935 : k0_chk935 i v6406), ∀ (k0_h3 : k0_cond3 i = 1#1), 8 ∣ (k0_mult1869 v6406).toNat := fun i v6406 k0_hw935 k0_h3 => k0_hw935.1 k0_h3
theorem k0_off3757_inb : ∀ (i : grid0.Coords) (v6406 : BitVec 32) (k0_hw935 : k0_chk935 i v6406), ∀ (k0_h3 : k0_cond3 i = 1#1), ∀ a, (k0_off3757 v6406) a + S8x128.size a ≤ S131072x128.size a := fun i v6406 k0_hw935 k0_h3 => k0_hw935.2 k0_h3

def k0_off3758 (i : grid0.Coords) : Fin 3 → Nat :=
  let c0_4016 : Index := 0#32
  let c0_4017 : Index := 0#32
  let arg1 : BitVec 32 := BitVec.ofNat 32 (i 1).val
  let c2_i32_4011 : BitVec 32 := 2#32
  let v6415 : BitVec 32 := Scalar.muli arg1 c2_i32_4011
  let c1_i32_4012 : BitVec 32 := 1#32
  let v6416 : BitVec 32 := Scalar.addi v6415 c1_i32_4012
  let c256_i32_4013 : BitVec 32 := 256#32
  let v6417 : BitVec 32 := Scalar.muli v6416 c256_i32_4013
  let c166_i32_4014 : BitVec 32 := 166#32
  let v6418 : BitVec 32 := Scalar.addi v6417 c166_i32_4014
  let v6420 : Index := Scalar.indexCast v6418
  ![0, 0, v6420.toNat]
def k0_mult1871 (v6421 : BitVec 32) : BitVec 32 :=
  v6421

def k0_mult1872 (i : grid0.Coords) : BitVec 32 :=
  let arg1 : BitVec 32 := BitVec.ofNat 32 (i 1).val
  let c2_i32_4011 : BitVec 32 := 2#32
  let v6415 : BitVec 32 := Scalar.muli arg1 c2_i32_4011
  let c1_i32_4012 : BitVec 32 := 1#32
  let v6416 : BitVec 32 := Scalar.addi v6415 c1_i32_4012
  let c256_i32_4013 : BitVec 32 := 256#32
  let v6417 : BitVec 32 := Scalar.muli v6416 c256_i32_4013
  let c166_i32_4014 : BitVec 32 := 166#32
  let v6418 : BitVec 32 := Scalar.addi v6417 c166_i32_4014
  let c8_i32_4018 : BitVec 32 := 8#32
  let v6423 : BitVec 32 := Scalar.muli v6418 c8_i32_4018
  v6423
def k0_off3759 (i : grid0.Coords) : Fin 1 → Nat :=
  let c1_i32_4015 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6419 : BitVec 32 := Scalar.subi c1_i32_4015 v9
  ![v6419.toNat]
def k0_off3760 (i : grid0.Coords) : Fin 3 → Nat :=
  let c1_i32_4015 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6419 : BitVec 32 := Scalar.subi c1_i32_4015 v9
  let arg1 : BitVec 32 := BitVec.ofNat 32 (i 1).val
  let c2_i32_4011 : BitVec 32 := 2#32
  let v6415 : BitVec 32 := Scalar.muli arg1 c2_i32_4011
  let c1_i32_4012 : BitVec 32 := 1#32
  let v6416 : BitVec 32 := Scalar.addi v6415 c1_i32_4012
  let c256_i32_4013 : BitVec 32 := 256#32
  let v6417 : BitVec 32 := Scalar.muli v6416 c256_i32_4013
  let c166_i32_4014 : BitVec 32 := 166#32
  let v6418 : BitVec 32 := Scalar.addi v6417 c166_i32_4014
  let c8_i32_4018 : BitVec 32 := 8#32
  let v6423 : BitVec 32 := Scalar.muli v6418 c8_i32_4018
  let v6424 : BitVec 32 := v6423
  let c0_i32_4019 : BitVec 32 := 0#32
  ![v6419.toNat, v6424.toNat, 0]
def k0_off3761 (v6421 : BitVec 32) : Fin 2 → Nat :=
  let v6422 : BitVec 32 := v6421
  let c0_i32_4020 : BitVec 32 := 0#32
  ![v6422.toNat, 0]

def k0_chk936 (i : grid0.Coords) (v6421 : BitVec 32) : Prop :=
  (∀ (k0_h3 : k0_cond3 i = 1#1), 8 ∣ (k0_mult1871 v6421).toNat) ∧
  (∀ (k0_h3 : k0_cond3 i = 1#1), ∀ a, (k0_off3761 v6421) a + S8x128.size a ≤ S131072x128.size a)
theorem k0_mult1871_dvd : ∀ (i : grid0.Coords) (v6421 : BitVec 32) (k0_hw936 : k0_chk936 i v6421), ∀ (k0_h3 : k0_cond3 i = 1#1), 8 ∣ (k0_mult1871 v6421).toNat := fun i v6421 k0_hw936 k0_h3 => k0_hw936.1 k0_h3
theorem k0_off3761_inb : ∀ (i : grid0.Coords) (v6421 : BitVec 32) (k0_hw936 : k0_chk936 i v6421), ∀ (k0_h3 : k0_cond3 i = 1#1), ∀ a, (k0_off3761 v6421) a + S8x128.size a ≤ S131072x128.size a := fun i v6421 k0_hw936 k0_h3 => k0_hw936.2 k0_h3

def k0_off3762 (i : grid0.Coords) : Fin 3 → Nat :=
  let c0_4026 : Index := 0#32
  let c0_4027 : Index := 0#32
  let arg1 : BitVec 32 := BitVec.ofNat 32 (i 1).val
  let c2_i32_4021 : BitVec 32 := 2#32
  let v6430 : BitVec 32 := Scalar.muli arg1 c2_i32_4021
  let c1_i32_4022 : BitVec 32 := 1#32
  let v6431 : BitVec 32 := Scalar.addi v6430 c1_i32_4022
  let c256_i32_4023 : BitVec 32 := 256#32
  let v6432 : BitVec 32 := Scalar.muli v6431 c256_i32_4023
  let c167_i32_4024 : BitVec 32 := 167#32
  let v6433 : BitVec 32 := Scalar.addi v6432 c167_i32_4024
  let v6435 : Index := Scalar.indexCast v6433
  ![0, 0, v6435.toNat]
def k0_mult1873 (v6436 : BitVec 32) : BitVec 32 :=
  v6436

def k0_mult1874 (i : grid0.Coords) : BitVec 32 :=
  let arg1 : BitVec 32 := BitVec.ofNat 32 (i 1).val
  let c2_i32_4021 : BitVec 32 := 2#32
  let v6430 : BitVec 32 := Scalar.muli arg1 c2_i32_4021
  let c1_i32_4022 : BitVec 32 := 1#32
  let v6431 : BitVec 32 := Scalar.addi v6430 c1_i32_4022
  let c256_i32_4023 : BitVec 32 := 256#32
  let v6432 : BitVec 32 := Scalar.muli v6431 c256_i32_4023
  let c167_i32_4024 : BitVec 32 := 167#32
  let v6433 : BitVec 32 := Scalar.addi v6432 c167_i32_4024
  let c8_i32_4028 : BitVec 32 := 8#32
  let v6438 : BitVec 32 := Scalar.muli v6433 c8_i32_4028
  v6438
def k0_off3763 (i : grid0.Coords) : Fin 1 → Nat :=
  let c1_i32_4025 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6434 : BitVec 32 := Scalar.subi c1_i32_4025 v9
  ![v6434.toNat]
def k0_off3764 (i : grid0.Coords) : Fin 3 → Nat :=
  let c1_i32_4025 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6434 : BitVec 32 := Scalar.subi c1_i32_4025 v9
  let arg1 : BitVec 32 := BitVec.ofNat 32 (i 1).val
  let c2_i32_4021 : BitVec 32 := 2#32
  let v6430 : BitVec 32 := Scalar.muli arg1 c2_i32_4021
  let c1_i32_4022 : BitVec 32 := 1#32
  let v6431 : BitVec 32 := Scalar.addi v6430 c1_i32_4022
  let c256_i32_4023 : BitVec 32 := 256#32
  let v6432 : BitVec 32 := Scalar.muli v6431 c256_i32_4023
  let c167_i32_4024 : BitVec 32 := 167#32
  let v6433 : BitVec 32 := Scalar.addi v6432 c167_i32_4024
  let c8_i32_4028 : BitVec 32 := 8#32
  let v6438 : BitVec 32 := Scalar.muli v6433 c8_i32_4028
  let v6439 : BitVec 32 := v6438
  let c0_i32_4029 : BitVec 32 := 0#32
  ![v6434.toNat, v6439.toNat, 0]
def k0_off3765 (v6436 : BitVec 32) : Fin 2 → Nat :=
  let v6437 : BitVec 32 := v6436
  let c0_i32_4030 : BitVec 32 := 0#32
  ![v6437.toNat, 0]

def k0_chk937 (i : grid0.Coords) (v6436 : BitVec 32) : Prop :=
  (∀ (k0_h3 : k0_cond3 i = 1#1), 8 ∣ (k0_mult1873 v6436).toNat) ∧
  (∀ (k0_h3 : k0_cond3 i = 1#1), ∀ a, (k0_off3765 v6436) a + S8x128.size a ≤ S131072x128.size a)
theorem k0_mult1873_dvd : ∀ (i : grid0.Coords) (v6436 : BitVec 32) (k0_hw937 : k0_chk937 i v6436), ∀ (k0_h3 : k0_cond3 i = 1#1), 8 ∣ (k0_mult1873 v6436).toNat := fun i v6436 k0_hw937 k0_h3 => k0_hw937.1 k0_h3
theorem k0_off3765_inb : ∀ (i : grid0.Coords) (v6436 : BitVec 32) (k0_hw937 : k0_chk937 i v6436), ∀ (k0_h3 : k0_cond3 i = 1#1), ∀ a, (k0_off3765 v6436) a + S8x128.size a ≤ S131072x128.size a := fun i v6436 k0_hw937 k0_h3 => k0_hw937.2 k0_h3

def k0_off3766 (i : grid0.Coords) : Fin 3 → Nat :=
  let c0_4036 : Index := 0#32
  let c0_4037 : Index := 0#32
  let arg1 : BitVec 32 := BitVec.ofNat 32 (i 1).val
  let c2_i32_4031 : BitVec 32 := 2#32
  let v6445 : BitVec 32 := Scalar.muli arg1 c2_i32_4031
  let c1_i32_4032 : BitVec 32 := 1#32
  let v6446 : BitVec 32 := Scalar.addi v6445 c1_i32_4032
  let c256_i32_4033 : BitVec 32 := 256#32
  let v6447 : BitVec 32 := Scalar.muli v6446 c256_i32_4033
  let c168_i32_4034 : BitVec 32 := 168#32
  let v6448 : BitVec 32 := Scalar.addi v6447 c168_i32_4034
  let v6450 : Index := Scalar.indexCast v6448
  ![0, 0, v6450.toNat]
def k0_mult1875 (v6451 : BitVec 32) : BitVec 32 :=
  v6451

def k0_mult1876 (i : grid0.Coords) : BitVec 32 :=
  let arg1 : BitVec 32 := BitVec.ofNat 32 (i 1).val
  let c2_i32_4031 : BitVec 32 := 2#32
  let v6445 : BitVec 32 := Scalar.muli arg1 c2_i32_4031
  let c1_i32_4032 : BitVec 32 := 1#32
  let v6446 : BitVec 32 := Scalar.addi v6445 c1_i32_4032
  let c256_i32_4033 : BitVec 32 := 256#32
  let v6447 : BitVec 32 := Scalar.muli v6446 c256_i32_4033
  let c168_i32_4034 : BitVec 32 := 168#32
  let v6448 : BitVec 32 := Scalar.addi v6447 c168_i32_4034
  let c8_i32_4038 : BitVec 32 := 8#32
  let v6453 : BitVec 32 := Scalar.muli v6448 c8_i32_4038
  v6453
def k0_off3767 (i : grid0.Coords) : Fin 1 → Nat :=
  let c1_i32_4035 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6449 : BitVec 32 := Scalar.subi c1_i32_4035 v9
  ![v6449.toNat]
def k0_off3768 (i : grid0.Coords) : Fin 3 → Nat :=
  let c1_i32_4035 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6449 : BitVec 32 := Scalar.subi c1_i32_4035 v9
  let arg1 : BitVec 32 := BitVec.ofNat 32 (i 1).val
  let c2_i32_4031 : BitVec 32 := 2#32
  let v6445 : BitVec 32 := Scalar.muli arg1 c2_i32_4031
  let c1_i32_4032 : BitVec 32 := 1#32
  let v6446 : BitVec 32 := Scalar.addi v6445 c1_i32_4032
  let c256_i32_4033 : BitVec 32 := 256#32
  let v6447 : BitVec 32 := Scalar.muli v6446 c256_i32_4033
  let c168_i32_4034 : BitVec 32 := 168#32
  let v6448 : BitVec 32 := Scalar.addi v6447 c168_i32_4034
  let c8_i32_4038 : BitVec 32 := 8#32
  let v6453 : BitVec 32 := Scalar.muli v6448 c8_i32_4038
  let v6454 : BitVec 32 := v6453
  let c0_i32_4039 : BitVec 32 := 0#32
  ![v6449.toNat, v6454.toNat, 0]
def k0_off3769 (v6451 : BitVec 32) : Fin 2 → Nat :=
  let v6452 : BitVec 32 := v6451
  let c0_i32_4040 : BitVec 32 := 0#32
  ![v6452.toNat, 0]

def k0_chk938 (i : grid0.Coords) (v6451 : BitVec 32) : Prop :=
  (∀ (k0_h3 : k0_cond3 i = 1#1), 8 ∣ (k0_mult1875 v6451).toNat) ∧
  (∀ (k0_h3 : k0_cond3 i = 1#1), ∀ a, (k0_off3769 v6451) a + S8x128.size a ≤ S131072x128.size a)
theorem k0_mult1875_dvd : ∀ (i : grid0.Coords) (v6451 : BitVec 32) (k0_hw938 : k0_chk938 i v6451), ∀ (k0_h3 : k0_cond3 i = 1#1), 8 ∣ (k0_mult1875 v6451).toNat := fun i v6451 k0_hw938 k0_h3 => k0_hw938.1 k0_h3
theorem k0_off3769_inb : ∀ (i : grid0.Coords) (v6451 : BitVec 32) (k0_hw938 : k0_chk938 i v6451), ∀ (k0_h3 : k0_cond3 i = 1#1), ∀ a, (k0_off3769 v6451) a + S8x128.size a ≤ S131072x128.size a := fun i v6451 k0_hw938 k0_h3 => k0_hw938.2 k0_h3

def k0_off3770 (i : grid0.Coords) : Fin 3 → Nat :=
  let c0_4046 : Index := 0#32
  let c0_4047 : Index := 0#32
  let arg1 : BitVec 32 := BitVec.ofNat 32 (i 1).val
  let c2_i32_4041 : BitVec 32 := 2#32
  let v6460 : BitVec 32 := Scalar.muli arg1 c2_i32_4041
  let c1_i32_4042 : BitVec 32 := 1#32
  let v6461 : BitVec 32 := Scalar.addi v6460 c1_i32_4042
  let c256_i32_4043 : BitVec 32 := 256#32
  let v6462 : BitVec 32 := Scalar.muli v6461 c256_i32_4043
  let c169_i32_4044 : BitVec 32 := 169#32
  let v6463 : BitVec 32 := Scalar.addi v6462 c169_i32_4044
  let v6465 : Index := Scalar.indexCast v6463
  ![0, 0, v6465.toNat]
def k0_mult1877 (v6466 : BitVec 32) : BitVec 32 :=
  v6466

def k0_mult1878 (i : grid0.Coords) : BitVec 32 :=
  let arg1 : BitVec 32 := BitVec.ofNat 32 (i 1).val
  let c2_i32_4041 : BitVec 32 := 2#32
  let v6460 : BitVec 32 := Scalar.muli arg1 c2_i32_4041
  let c1_i32_4042 : BitVec 32 := 1#32
  let v6461 : BitVec 32 := Scalar.addi v6460 c1_i32_4042
  let c256_i32_4043 : BitVec 32 := 256#32
  let v6462 : BitVec 32 := Scalar.muli v6461 c256_i32_4043
  let c169_i32_4044 : BitVec 32 := 169#32
  let v6463 : BitVec 32 := Scalar.addi v6462 c169_i32_4044
  let c8_i32_4048 : BitVec 32 := 8#32
  let v6468 : BitVec 32 := Scalar.muli v6463 c8_i32_4048
  v6468
def k0_off3771 (i : grid0.Coords) : Fin 1 → Nat :=
  let c1_i32_4045 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6464 : BitVec 32 := Scalar.subi c1_i32_4045 v9
  ![v6464.toNat]
def k0_off3772 (i : grid0.Coords) : Fin 3 → Nat :=
  let c1_i32_4045 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6464 : BitVec 32 := Scalar.subi c1_i32_4045 v9
  let arg1 : BitVec 32 := BitVec.ofNat 32 (i 1).val
  let c2_i32_4041 : BitVec 32 := 2#32
  let v6460 : BitVec 32 := Scalar.muli arg1 c2_i32_4041
  let c1_i32_4042 : BitVec 32 := 1#32
  let v6461 : BitVec 32 := Scalar.addi v6460 c1_i32_4042
  let c256_i32_4043 : BitVec 32 := 256#32
  let v6462 : BitVec 32 := Scalar.muli v6461 c256_i32_4043
  let c169_i32_4044 : BitVec 32 := 169#32
  let v6463 : BitVec 32 := Scalar.addi v6462 c169_i32_4044
  let c8_i32_4048 : BitVec 32 := 8#32
  let v6468 : BitVec 32 := Scalar.muli v6463 c8_i32_4048
  let v6469 : BitVec 32 := v6468
  let c0_i32_4049 : BitVec 32 := 0#32
  ![v6464.toNat, v6469.toNat, 0]
def k0_off3773 (v6466 : BitVec 32) : Fin 2 → Nat :=
  let v6467 : BitVec 32 := v6466
  let c0_i32_4050 : BitVec 32 := 0#32
  ![v6467.toNat, 0]

def k0_chk939 (i : grid0.Coords) (v6466 : BitVec 32) : Prop :=
  (∀ (k0_h3 : k0_cond3 i = 1#1), 8 ∣ (k0_mult1877 v6466).toNat) ∧
  (∀ (k0_h3 : k0_cond3 i = 1#1), ∀ a, (k0_off3773 v6466) a + S8x128.size a ≤ S131072x128.size a)
theorem k0_mult1877_dvd : ∀ (i : grid0.Coords) (v6466 : BitVec 32) (k0_hw939 : k0_chk939 i v6466), ∀ (k0_h3 : k0_cond3 i = 1#1), 8 ∣ (k0_mult1877 v6466).toNat := fun i v6466 k0_hw939 k0_h3 => k0_hw939.1 k0_h3
theorem k0_off3773_inb : ∀ (i : grid0.Coords) (v6466 : BitVec 32) (k0_hw939 : k0_chk939 i v6466), ∀ (k0_h3 : k0_cond3 i = 1#1), ∀ a, (k0_off3773 v6466) a + S8x128.size a ≤ S131072x128.size a := fun i v6466 k0_hw939 k0_h3 => k0_hw939.2 k0_h3

def k0_off3774 (i : grid0.Coords) : Fin 3 → Nat :=
  let c0_4056 : Index := 0#32
  let c0_4057 : Index := 0#32
  let arg1 : BitVec 32 := BitVec.ofNat 32 (i 1).val
  let c2_i32_4051 : BitVec 32 := 2#32
  let v6475 : BitVec 32 := Scalar.muli arg1 c2_i32_4051
  let c1_i32_4052 : BitVec 32 := 1#32
  let v6476 : BitVec 32 := Scalar.addi v6475 c1_i32_4052
  let c256_i32_4053 : BitVec 32 := 256#32
  let v6477 : BitVec 32 := Scalar.muli v6476 c256_i32_4053
  let c170_i32_4054 : BitVec 32 := 170#32
  let v6478 : BitVec 32 := Scalar.addi v6477 c170_i32_4054
  let v6480 : Index := Scalar.indexCast v6478
  ![0, 0, v6480.toNat]
def k0_mult1879 (v6481 : BitVec 32) : BitVec 32 :=
  v6481

def k0_mult1880 (i : grid0.Coords) : BitVec 32 :=
  let arg1 : BitVec 32 := BitVec.ofNat 32 (i 1).val
  let c2_i32_4051 : BitVec 32 := 2#32
  let v6475 : BitVec 32 := Scalar.muli arg1 c2_i32_4051
  let c1_i32_4052 : BitVec 32 := 1#32
  let v6476 : BitVec 32 := Scalar.addi v6475 c1_i32_4052
  let c256_i32_4053 : BitVec 32 := 256#32
  let v6477 : BitVec 32 := Scalar.muli v6476 c256_i32_4053
  let c170_i32_4054 : BitVec 32 := 170#32
  let v6478 : BitVec 32 := Scalar.addi v6477 c170_i32_4054
  let c8_i32_4058 : BitVec 32 := 8#32
  let v6483 : BitVec 32 := Scalar.muli v6478 c8_i32_4058
  v6483
def k0_off3775 (i : grid0.Coords) : Fin 1 → Nat :=
  let c1_i32_4055 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6479 : BitVec 32 := Scalar.subi c1_i32_4055 v9
  ![v6479.toNat]
def k0_off3776 (i : grid0.Coords) : Fin 3 → Nat :=
  let c1_i32_4055 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6479 : BitVec 32 := Scalar.subi c1_i32_4055 v9
  let arg1 : BitVec 32 := BitVec.ofNat 32 (i 1).val
  let c2_i32_4051 : BitVec 32 := 2#32
  let v6475 : BitVec 32 := Scalar.muli arg1 c2_i32_4051
  let c1_i32_4052 : BitVec 32 := 1#32
  let v6476 : BitVec 32 := Scalar.addi v6475 c1_i32_4052
  let c256_i32_4053 : BitVec 32 := 256#32
  let v6477 : BitVec 32 := Scalar.muli v6476 c256_i32_4053
  let c170_i32_4054 : BitVec 32 := 170#32
  let v6478 : BitVec 32 := Scalar.addi v6477 c170_i32_4054
  let c8_i32_4058 : BitVec 32 := 8#32
  let v6483 : BitVec 32 := Scalar.muli v6478 c8_i32_4058
  let v6484 : BitVec 32 := v6483
  let c0_i32_4059 : BitVec 32 := 0#32
  ![v6479.toNat, v6484.toNat, 0]
def k0_off3777 (v6481 : BitVec 32) : Fin 2 → Nat :=
  let v6482 : BitVec 32 := v6481
  let c0_i32_4060 : BitVec 32 := 0#32
  ![v6482.toNat, 0]

def k0_chk940 (i : grid0.Coords) (v6481 : BitVec 32) : Prop :=
  (∀ (k0_h3 : k0_cond3 i = 1#1), 8 ∣ (k0_mult1879 v6481).toNat) ∧
  (∀ (k0_h3 : k0_cond3 i = 1#1), ∀ a, (k0_off3777 v6481) a + S8x128.size a ≤ S131072x128.size a)
theorem k0_mult1879_dvd : ∀ (i : grid0.Coords) (v6481 : BitVec 32) (k0_hw940 : k0_chk940 i v6481), ∀ (k0_h3 : k0_cond3 i = 1#1), 8 ∣ (k0_mult1879 v6481).toNat := fun i v6481 k0_hw940 k0_h3 => k0_hw940.1 k0_h3
theorem k0_off3777_inb : ∀ (i : grid0.Coords) (v6481 : BitVec 32) (k0_hw940 : k0_chk940 i v6481), ∀ (k0_h3 : k0_cond3 i = 1#1), ∀ a, (k0_off3777 v6481) a + S8x128.size a ≤ S131072x128.size a := fun i v6481 k0_hw940 k0_h3 => k0_hw940.2 k0_h3

def k0_off3778 (i : grid0.Coords) : Fin 3 → Nat :=
  let c0_4066 : Index := 0#32
  let c0_4067 : Index := 0#32
  let arg1 : BitVec 32 := BitVec.ofNat 32 (i 1).val
  let c2_i32_4061 : BitVec 32 := 2#32
  let v6490 : BitVec 32 := Scalar.muli arg1 c2_i32_4061
  let c1_i32_4062 : BitVec 32 := 1#32
  let v6491 : BitVec 32 := Scalar.addi v6490 c1_i32_4062
  let c256_i32_4063 : BitVec 32 := 256#32
  let v6492 : BitVec 32 := Scalar.muli v6491 c256_i32_4063
  let c171_i32_4064 : BitVec 32 := 171#32
  let v6493 : BitVec 32 := Scalar.addi v6492 c171_i32_4064
  let v6495 : Index := Scalar.indexCast v6493
  ![0, 0, v6495.toNat]
def k0_mult1881 (v6496 : BitVec 32) : BitVec 32 :=
  v6496

def k0_mult1882 (i : grid0.Coords) : BitVec 32 :=
  let arg1 : BitVec 32 := BitVec.ofNat 32 (i 1).val
  let c2_i32_4061 : BitVec 32 := 2#32
  let v6490 : BitVec 32 := Scalar.muli arg1 c2_i32_4061
  let c1_i32_4062 : BitVec 32 := 1#32
  let v6491 : BitVec 32 := Scalar.addi v6490 c1_i32_4062
  let c256_i32_4063 : BitVec 32 := 256#32
  let v6492 : BitVec 32 := Scalar.muli v6491 c256_i32_4063
  let c171_i32_4064 : BitVec 32 := 171#32
  let v6493 : BitVec 32 := Scalar.addi v6492 c171_i32_4064
  let c8_i32_4068 : BitVec 32 := 8#32
  let v6498 : BitVec 32 := Scalar.muli v6493 c8_i32_4068
  v6498
def k0_off3779 (i : grid0.Coords) : Fin 1 → Nat :=
  let c1_i32_4065 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6494 : BitVec 32 := Scalar.subi c1_i32_4065 v9
  ![v6494.toNat]
def k0_off3780 (i : grid0.Coords) : Fin 3 → Nat :=
  let c1_i32_4065 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6494 : BitVec 32 := Scalar.subi c1_i32_4065 v9
  let arg1 : BitVec 32 := BitVec.ofNat 32 (i 1).val
  let c2_i32_4061 : BitVec 32 := 2#32
  let v6490 : BitVec 32 := Scalar.muli arg1 c2_i32_4061
  let c1_i32_4062 : BitVec 32 := 1#32
  let v6491 : BitVec 32 := Scalar.addi v6490 c1_i32_4062
  let c256_i32_4063 : BitVec 32 := 256#32
  let v6492 : BitVec 32 := Scalar.muli v6491 c256_i32_4063
  let c171_i32_4064 : BitVec 32 := 171#32
  let v6493 : BitVec 32 := Scalar.addi v6492 c171_i32_4064
  let c8_i32_4068 : BitVec 32 := 8#32
  let v6498 : BitVec 32 := Scalar.muli v6493 c8_i32_4068
  let v6499 : BitVec 32 := v6498
  let c0_i32_4069 : BitVec 32 := 0#32
  ![v6494.toNat, v6499.toNat, 0]
def k0_off3781 (v6496 : BitVec 32) : Fin 2 → Nat :=
  let v6497 : BitVec 32 := v6496
  let c0_i32_4070 : BitVec 32 := 0#32
  ![v6497.toNat, 0]

def k0_chk941 (i : grid0.Coords) (v6496 : BitVec 32) : Prop :=
  (∀ (k0_h3 : k0_cond3 i = 1#1), 8 ∣ (k0_mult1881 v6496).toNat) ∧
  (∀ (k0_h3 : k0_cond3 i = 1#1), ∀ a, (k0_off3781 v6496) a + S8x128.size a ≤ S131072x128.size a)
theorem k0_mult1881_dvd : ∀ (i : grid0.Coords) (v6496 : BitVec 32) (k0_hw941 : k0_chk941 i v6496), ∀ (k0_h3 : k0_cond3 i = 1#1), 8 ∣ (k0_mult1881 v6496).toNat := fun i v6496 k0_hw941 k0_h3 => k0_hw941.1 k0_h3
theorem k0_off3781_inb : ∀ (i : grid0.Coords) (v6496 : BitVec 32) (k0_hw941 : k0_chk941 i v6496), ∀ (k0_h3 : k0_cond3 i = 1#1), ∀ a, (k0_off3781 v6496) a + S8x128.size a ≤ S131072x128.size a := fun i v6496 k0_hw941 k0_h3 => k0_hw941.2 k0_h3

def k0_off3782 (i : grid0.Coords) : Fin 3 → Nat :=
  let c0_4076 : Index := 0#32
  let c0_4077 : Index := 0#32
  let arg1 : BitVec 32 := BitVec.ofNat 32 (i 1).val
  let c2_i32_4071 : BitVec 32 := 2#32
  let v6505 : BitVec 32 := Scalar.muli arg1 c2_i32_4071
  let c1_i32_4072 : BitVec 32 := 1#32
  let v6506 : BitVec 32 := Scalar.addi v6505 c1_i32_4072
  let c256_i32_4073 : BitVec 32 := 256#32
  let v6507 : BitVec 32 := Scalar.muli v6506 c256_i32_4073
  let c172_i32_4074 : BitVec 32 := 172#32
  let v6508 : BitVec 32 := Scalar.addi v6507 c172_i32_4074
  let v6510 : Index := Scalar.indexCast v6508
  ![0, 0, v6510.toNat]
def k0_mult1883 (v6511 : BitVec 32) : BitVec 32 :=
  v6511

def k0_mult1884 (i : grid0.Coords) : BitVec 32 :=
  let arg1 : BitVec 32 := BitVec.ofNat 32 (i 1).val
  let c2_i32_4071 : BitVec 32 := 2#32
  let v6505 : BitVec 32 := Scalar.muli arg1 c2_i32_4071
  let c1_i32_4072 : BitVec 32 := 1#32
  let v6506 : BitVec 32 := Scalar.addi v6505 c1_i32_4072
  let c256_i32_4073 : BitVec 32 := 256#32
  let v6507 : BitVec 32 := Scalar.muli v6506 c256_i32_4073
  let c172_i32_4074 : BitVec 32 := 172#32
  let v6508 : BitVec 32 := Scalar.addi v6507 c172_i32_4074
  let c8_i32_4078 : BitVec 32 := 8#32
  let v6513 : BitVec 32 := Scalar.muli v6508 c8_i32_4078
  v6513
def k0_off3783 (i : grid0.Coords) : Fin 1 → Nat :=
  let c1_i32_4075 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6509 : BitVec 32 := Scalar.subi c1_i32_4075 v9
  ![v6509.toNat]
def k0_off3784 (i : grid0.Coords) : Fin 3 → Nat :=
  let c1_i32_4075 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6509 : BitVec 32 := Scalar.subi c1_i32_4075 v9
  let arg1 : BitVec 32 := BitVec.ofNat 32 (i 1).val
  let c2_i32_4071 : BitVec 32 := 2#32
  let v6505 : BitVec 32 := Scalar.muli arg1 c2_i32_4071
  let c1_i32_4072 : BitVec 32 := 1#32
  let v6506 : BitVec 32 := Scalar.addi v6505 c1_i32_4072
  let c256_i32_4073 : BitVec 32 := 256#32
  let v6507 : BitVec 32 := Scalar.muli v6506 c256_i32_4073
  let c172_i32_4074 : BitVec 32 := 172#32
  let v6508 : BitVec 32 := Scalar.addi v6507 c172_i32_4074
  let c8_i32_4078 : BitVec 32 := 8#32
  let v6513 : BitVec 32 := Scalar.muli v6508 c8_i32_4078
  let v6514 : BitVec 32 := v6513
  let c0_i32_4079 : BitVec 32 := 0#32
  ![v6509.toNat, v6514.toNat, 0]
def k0_off3785 (v6511 : BitVec 32) : Fin 2 → Nat :=
  let v6512 : BitVec 32 := v6511
  let c0_i32_4080 : BitVec 32 := 0#32
  ![v6512.toNat, 0]

def k0_chk942 (i : grid0.Coords) (v6511 : BitVec 32) : Prop :=
  (∀ (k0_h3 : k0_cond3 i = 1#1), 8 ∣ (k0_mult1883 v6511).toNat) ∧
  (∀ (k0_h3 : k0_cond3 i = 1#1), ∀ a, (k0_off3785 v6511) a + S8x128.size a ≤ S131072x128.size a)
theorem k0_mult1883_dvd : ∀ (i : grid0.Coords) (v6511 : BitVec 32) (k0_hw942 : k0_chk942 i v6511), ∀ (k0_h3 : k0_cond3 i = 1#1), 8 ∣ (k0_mult1883 v6511).toNat := fun i v6511 k0_hw942 k0_h3 => k0_hw942.1 k0_h3
theorem k0_off3785_inb : ∀ (i : grid0.Coords) (v6511 : BitVec 32) (k0_hw942 : k0_chk942 i v6511), ∀ (k0_h3 : k0_cond3 i = 1#1), ∀ a, (k0_off3785 v6511) a + S8x128.size a ≤ S131072x128.size a := fun i v6511 k0_hw942 k0_h3 => k0_hw942.2 k0_h3

def k0_off3786 (i : grid0.Coords) : Fin 3 → Nat :=
  let c0_4086 : Index := 0#32
  let c0_4087 : Index := 0#32
  let arg1 : BitVec 32 := BitVec.ofNat 32 (i 1).val
  let c2_i32_4081 : BitVec 32 := 2#32
  let v6520 : BitVec 32 := Scalar.muli arg1 c2_i32_4081
  let c1_i32_4082 : BitVec 32 := 1#32
  let v6521 : BitVec 32 := Scalar.addi v6520 c1_i32_4082
  let c256_i32_4083 : BitVec 32 := 256#32
  let v6522 : BitVec 32 := Scalar.muli v6521 c256_i32_4083
  let c173_i32_4084 : BitVec 32 := 173#32
  let v6523 : BitVec 32 := Scalar.addi v6522 c173_i32_4084
  let v6525 : Index := Scalar.indexCast v6523
  ![0, 0, v6525.toNat]
def k0_mult1885 (v6526 : BitVec 32) : BitVec 32 :=
  v6526

def k0_mult1886 (i : grid0.Coords) : BitVec 32 :=
  let arg1 : BitVec 32 := BitVec.ofNat 32 (i 1).val
  let c2_i32_4081 : BitVec 32 := 2#32
  let v6520 : BitVec 32 := Scalar.muli arg1 c2_i32_4081
  let c1_i32_4082 : BitVec 32 := 1#32
  let v6521 : BitVec 32 := Scalar.addi v6520 c1_i32_4082
  let c256_i32_4083 : BitVec 32 := 256#32
  let v6522 : BitVec 32 := Scalar.muli v6521 c256_i32_4083
  let c173_i32_4084 : BitVec 32 := 173#32
  let v6523 : BitVec 32 := Scalar.addi v6522 c173_i32_4084
  let c8_i32_4088 : BitVec 32 := 8#32
  let v6528 : BitVec 32 := Scalar.muli v6523 c8_i32_4088
  v6528
def k0_off3787 (i : grid0.Coords) : Fin 1 → Nat :=
  let c1_i32_4085 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6524 : BitVec 32 := Scalar.subi c1_i32_4085 v9
  ![v6524.toNat]
def k0_off3788 (i : grid0.Coords) : Fin 3 → Nat :=
  let c1_i32_4085 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6524 : BitVec 32 := Scalar.subi c1_i32_4085 v9
  let arg1 : BitVec 32 := BitVec.ofNat 32 (i 1).val
  let c2_i32_4081 : BitVec 32 := 2#32
  let v6520 : BitVec 32 := Scalar.muli arg1 c2_i32_4081
  let c1_i32_4082 : BitVec 32 := 1#32
  let v6521 : BitVec 32 := Scalar.addi v6520 c1_i32_4082
  let c256_i32_4083 : BitVec 32 := 256#32
  let v6522 : BitVec 32 := Scalar.muli v6521 c256_i32_4083
  let c173_i32_4084 : BitVec 32 := 173#32
  let v6523 : BitVec 32 := Scalar.addi v6522 c173_i32_4084
  let c8_i32_4088 : BitVec 32 := 8#32
  let v6528 : BitVec 32 := Scalar.muli v6523 c8_i32_4088
  let v6529 : BitVec 32 := v6528
  let c0_i32_4089 : BitVec 32 := 0#32
  ![v6524.toNat, v6529.toNat, 0]
def k0_off3789 (v6526 : BitVec 32) : Fin 2 → Nat :=
  let v6527 : BitVec 32 := v6526
  let c0_i32_4090 : BitVec 32 := 0#32
  ![v6527.toNat, 0]

def k0_chk943 (i : grid0.Coords) (v6526 : BitVec 32) : Prop :=
  (∀ (k0_h3 : k0_cond3 i = 1#1), 8 ∣ (k0_mult1885 v6526).toNat) ∧
  (∀ (k0_h3 : k0_cond3 i = 1#1), ∀ a, (k0_off3789 v6526) a + S8x128.size a ≤ S131072x128.size a)
theorem k0_mult1885_dvd : ∀ (i : grid0.Coords) (v6526 : BitVec 32) (k0_hw943 : k0_chk943 i v6526), ∀ (k0_h3 : k0_cond3 i = 1#1), 8 ∣ (k0_mult1885 v6526).toNat := fun i v6526 k0_hw943 k0_h3 => k0_hw943.1 k0_h3
theorem k0_off3789_inb : ∀ (i : grid0.Coords) (v6526 : BitVec 32) (k0_hw943 : k0_chk943 i v6526), ∀ (k0_h3 : k0_cond3 i = 1#1), ∀ a, (k0_off3789 v6526) a + S8x128.size a ≤ S131072x128.size a := fun i v6526 k0_hw943 k0_h3 => k0_hw943.2 k0_h3

def k0_off3790 (i : grid0.Coords) : Fin 3 → Nat :=
  let c0_4096 : Index := 0#32
  let c0_4097 : Index := 0#32
  let arg1 : BitVec 32 := BitVec.ofNat 32 (i 1).val
  let c2_i32_4091 : BitVec 32 := 2#32
  let v6535 : BitVec 32 := Scalar.muli arg1 c2_i32_4091
  let c1_i32_4092 : BitVec 32 := 1#32
  let v6536 : BitVec 32 := Scalar.addi v6535 c1_i32_4092
  let c256_i32_4093 : BitVec 32 := 256#32
  let v6537 : BitVec 32 := Scalar.muli v6536 c256_i32_4093
  let c174_i32_4094 : BitVec 32 := 174#32
  let v6538 : BitVec 32 := Scalar.addi v6537 c174_i32_4094
  let v6540 : Index := Scalar.indexCast v6538
  ![0, 0, v6540.toNat]
def k0_mult1887 (v6541 : BitVec 32) : BitVec 32 :=
  v6541

def k0_mult1888 (i : grid0.Coords) : BitVec 32 :=
  let arg1 : BitVec 32 := BitVec.ofNat 32 (i 1).val
  let c2_i32_4091 : BitVec 32 := 2#32
  let v6535 : BitVec 32 := Scalar.muli arg1 c2_i32_4091
  let c1_i32_4092 : BitVec 32 := 1#32
  let v6536 : BitVec 32 := Scalar.addi v6535 c1_i32_4092
  let c256_i32_4093 : BitVec 32 := 256#32
  let v6537 : BitVec 32 := Scalar.muli v6536 c256_i32_4093
  let c174_i32_4094 : BitVec 32 := 174#32
  let v6538 : BitVec 32 := Scalar.addi v6537 c174_i32_4094
  let c8_i32_4098 : BitVec 32 := 8#32
  let v6543 : BitVec 32 := Scalar.muli v6538 c8_i32_4098
  v6543
def k0_off3791 (i : grid0.Coords) : Fin 1 → Nat :=
  let c1_i32_4095 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6539 : BitVec 32 := Scalar.subi c1_i32_4095 v9
  ![v6539.toNat]
def k0_off3792 (i : grid0.Coords) : Fin 3 → Nat :=
  let c1_i32_4095 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6539 : BitVec 32 := Scalar.subi c1_i32_4095 v9
  let arg1 : BitVec 32 := BitVec.ofNat 32 (i 1).val
  let c2_i32_4091 : BitVec 32 := 2#32
  let v6535 : BitVec 32 := Scalar.muli arg1 c2_i32_4091
  let c1_i32_4092 : BitVec 32 := 1#32
  let v6536 : BitVec 32 := Scalar.addi v6535 c1_i32_4092
  let c256_i32_4093 : BitVec 32 := 256#32
  let v6537 : BitVec 32 := Scalar.muli v6536 c256_i32_4093
  let c174_i32_4094 : BitVec 32 := 174#32
  let v6538 : BitVec 32 := Scalar.addi v6537 c174_i32_4094
  let c8_i32_4098 : BitVec 32 := 8#32
  let v6543 : BitVec 32 := Scalar.muli v6538 c8_i32_4098
  let v6544 : BitVec 32 := v6543
  let c0_i32_4099 : BitVec 32 := 0#32
  ![v6539.toNat, v6544.toNat, 0]
def k0_off3793 (v6541 : BitVec 32) : Fin 2 → Nat :=
  let v6542 : BitVec 32 := v6541
  let c0_i32_4100 : BitVec 32 := 0#32
  ![v6542.toNat, 0]

def k0_chk944 (i : grid0.Coords) (v6541 : BitVec 32) : Prop :=
  (∀ (k0_h3 : k0_cond3 i = 1#1), 8 ∣ (k0_mult1887 v6541).toNat) ∧
  (∀ (k0_h3 : k0_cond3 i = 1#1), ∀ a, (k0_off3793 v6541) a + S8x128.size a ≤ S131072x128.size a)
theorem k0_mult1887_dvd : ∀ (i : grid0.Coords) (v6541 : BitVec 32) (k0_hw944 : k0_chk944 i v6541), ∀ (k0_h3 : k0_cond3 i = 1#1), 8 ∣ (k0_mult1887 v6541).toNat := fun i v6541 k0_hw944 k0_h3 => k0_hw944.1 k0_h3
theorem k0_off3793_inb : ∀ (i : grid0.Coords) (v6541 : BitVec 32) (k0_hw944 : k0_chk944 i v6541), ∀ (k0_h3 : k0_cond3 i = 1#1), ∀ a, (k0_off3793 v6541) a + S8x128.size a ≤ S131072x128.size a := fun i v6541 k0_hw944 k0_h3 => k0_hw944.2 k0_h3

def k0_off3794 (i : grid0.Coords) : Fin 3 → Nat :=
  let c0_4106 : Index := 0#32
  let c0_4107 : Index := 0#32
  let arg1 : BitVec 32 := BitVec.ofNat 32 (i 1).val
  let c2_i32_4101 : BitVec 32 := 2#32
  let v6550 : BitVec 32 := Scalar.muli arg1 c2_i32_4101
  let c1_i32_4102 : BitVec 32 := 1#32
  let v6551 : BitVec 32 := Scalar.addi v6550 c1_i32_4102
  let c256_i32_4103 : BitVec 32 := 256#32
  let v6552 : BitVec 32 := Scalar.muli v6551 c256_i32_4103
  let c175_i32_4104 : BitVec 32 := 175#32
  let v6553 : BitVec 32 := Scalar.addi v6552 c175_i32_4104
  let v6555 : Index := Scalar.indexCast v6553
  ![0, 0, v6555.toNat]
def k0_mult1889 (v6556 : BitVec 32) : BitVec 32 :=
  v6556

def k0_mult1890 (i : grid0.Coords) : BitVec 32 :=
  let arg1 : BitVec 32 := BitVec.ofNat 32 (i 1).val
  let c2_i32_4101 : BitVec 32 := 2#32
  let v6550 : BitVec 32 := Scalar.muli arg1 c2_i32_4101
  let c1_i32_4102 : BitVec 32 := 1#32
  let v6551 : BitVec 32 := Scalar.addi v6550 c1_i32_4102
  let c256_i32_4103 : BitVec 32 := 256#32
  let v6552 : BitVec 32 := Scalar.muli v6551 c256_i32_4103
  let c175_i32_4104 : BitVec 32 := 175#32
  let v6553 : BitVec 32 := Scalar.addi v6552 c175_i32_4104
  let c8_i32_4108 : BitVec 32 := 8#32
  let v6558 : BitVec 32 := Scalar.muli v6553 c8_i32_4108
  v6558
def k0_off3795 (i : grid0.Coords) : Fin 1 → Nat :=
  let c1_i32_4105 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6554 : BitVec 32 := Scalar.subi c1_i32_4105 v9
  ![v6554.toNat]
def k0_off3796 (i : grid0.Coords) : Fin 3 → Nat :=
  let c1_i32_4105 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6554 : BitVec 32 := Scalar.subi c1_i32_4105 v9
  let arg1 : BitVec 32 := BitVec.ofNat 32 (i 1).val
  let c2_i32_4101 : BitVec 32 := 2#32
  let v6550 : BitVec 32 := Scalar.muli arg1 c2_i32_4101
  let c1_i32_4102 : BitVec 32 := 1#32
  let v6551 : BitVec 32 := Scalar.addi v6550 c1_i32_4102
  let c256_i32_4103 : BitVec 32 := 256#32
  let v6552 : BitVec 32 := Scalar.muli v6551 c256_i32_4103
  let c175_i32_4104 : BitVec 32 := 175#32
  let v6553 : BitVec 32 := Scalar.addi v6552 c175_i32_4104
  let c8_i32_4108 : BitVec 32 := 8#32
  let v6558 : BitVec 32 := Scalar.muli v6553 c8_i32_4108
  let v6559 : BitVec 32 := v6558
  let c0_i32_4109 : BitVec 32 := 0#32
  ![v6554.toNat, v6559.toNat, 0]
def k0_off3797 (v6556 : BitVec 32) : Fin 2 → Nat :=
  let v6557 : BitVec 32 := v6556
  let c0_i32_4110 : BitVec 32 := 0#32
  ![v6557.toNat, 0]

def k0_chk945 (i : grid0.Coords) (v6556 : BitVec 32) : Prop :=
  (∀ (k0_h3 : k0_cond3 i = 1#1), 8 ∣ (k0_mult1889 v6556).toNat) ∧
  (∀ (k0_h3 : k0_cond3 i = 1#1), ∀ a, (k0_off3797 v6556) a + S8x128.size a ≤ S131072x128.size a)
theorem k0_mult1889_dvd : ∀ (i : grid0.Coords) (v6556 : BitVec 32) (k0_hw945 : k0_chk945 i v6556), ∀ (k0_h3 : k0_cond3 i = 1#1), 8 ∣ (k0_mult1889 v6556).toNat := fun i v6556 k0_hw945 k0_h3 => k0_hw945.1 k0_h3
theorem k0_off3797_inb : ∀ (i : grid0.Coords) (v6556 : BitVec 32) (k0_hw945 : k0_chk945 i v6556), ∀ (k0_h3 : k0_cond3 i = 1#1), ∀ a, (k0_off3797 v6556) a + S8x128.size a ≤ S131072x128.size a := fun i v6556 k0_hw945 k0_h3 => k0_hw945.2 k0_h3

def k0_off3798 (i : grid0.Coords) : Fin 3 → Nat :=
  let c0_4116 : Index := 0#32
  let c0_4117 : Index := 0#32
  let arg1 : BitVec 32 := BitVec.ofNat 32 (i 1).val
  let c2_i32_4111 : BitVec 32 := 2#32
  let v6565 : BitVec 32 := Scalar.muli arg1 c2_i32_4111
  let c1_i32_4112 : BitVec 32 := 1#32
  let v6566 : BitVec 32 := Scalar.addi v6565 c1_i32_4112
  let c256_i32_4113 : BitVec 32 := 256#32
  let v6567 : BitVec 32 := Scalar.muli v6566 c256_i32_4113
  let c176_i32_4114 : BitVec 32 := 176#32
  let v6568 : BitVec 32 := Scalar.addi v6567 c176_i32_4114
  let v6570 : Index := Scalar.indexCast v6568
  ![0, 0, v6570.toNat]
def k0_mult1891 (v6571 : BitVec 32) : BitVec 32 :=
  v6571

def k0_mult1892 (i : grid0.Coords) : BitVec 32 :=
  let arg1 : BitVec 32 := BitVec.ofNat 32 (i 1).val
  let c2_i32_4111 : BitVec 32 := 2#32
  let v6565 : BitVec 32 := Scalar.muli arg1 c2_i32_4111
  let c1_i32_4112 : BitVec 32 := 1#32
  let v6566 : BitVec 32 := Scalar.addi v6565 c1_i32_4112
  let c256_i32_4113 : BitVec 32 := 256#32
  let v6567 : BitVec 32 := Scalar.muli v6566 c256_i32_4113
  let c176_i32_4114 : BitVec 32 := 176#32
  let v6568 : BitVec 32 := Scalar.addi v6567 c176_i32_4114
  let c8_i32_4118 : BitVec 32 := 8#32
  let v6573 : BitVec 32 := Scalar.muli v6568 c8_i32_4118
  v6573
def k0_off3799 (i : grid0.Coords) : Fin 1 → Nat :=
  let c1_i32_4115 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6569 : BitVec 32 := Scalar.subi c1_i32_4115 v9
  ![v6569.toNat]
def k0_off3800 (i : grid0.Coords) : Fin 3 → Nat :=
  let c1_i32_4115 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6569 : BitVec 32 := Scalar.subi c1_i32_4115 v9
  let arg1 : BitVec 32 := BitVec.ofNat 32 (i 1).val
  let c2_i32_4111 : BitVec 32 := 2#32
  let v6565 : BitVec 32 := Scalar.muli arg1 c2_i32_4111
  let c1_i32_4112 : BitVec 32 := 1#32
  let v6566 : BitVec 32 := Scalar.addi v6565 c1_i32_4112
  let c256_i32_4113 : BitVec 32 := 256#32
  let v6567 : BitVec 32 := Scalar.muli v6566 c256_i32_4113
  let c176_i32_4114 : BitVec 32 := 176#32
  let v6568 : BitVec 32 := Scalar.addi v6567 c176_i32_4114
  let c8_i32_4118 : BitVec 32 := 8#32
  let v6573 : BitVec 32 := Scalar.muli v6568 c8_i32_4118
  let v6574 : BitVec 32 := v6573
  let c0_i32_4119 : BitVec 32 := 0#32
  ![v6569.toNat, v6574.toNat, 0]
def k0_off3801 (v6571 : BitVec 32) : Fin 2 → Nat :=
  let v6572 : BitVec 32 := v6571
  let c0_i32_4120 : BitVec 32 := 0#32
  ![v6572.toNat, 0]

def k0_chk946 (i : grid0.Coords) (v6571 : BitVec 32) : Prop :=
  (∀ (k0_h3 : k0_cond3 i = 1#1), 8 ∣ (k0_mult1891 v6571).toNat) ∧
  (∀ (k0_h3 : k0_cond3 i = 1#1), ∀ a, (k0_off3801 v6571) a + S8x128.size a ≤ S131072x128.size a)
theorem k0_mult1891_dvd : ∀ (i : grid0.Coords) (v6571 : BitVec 32) (k0_hw946 : k0_chk946 i v6571), ∀ (k0_h3 : k0_cond3 i = 1#1), 8 ∣ (k0_mult1891 v6571).toNat := fun i v6571 k0_hw946 k0_h3 => k0_hw946.1 k0_h3
theorem k0_off3801_inb : ∀ (i : grid0.Coords) (v6571 : BitVec 32) (k0_hw946 : k0_chk946 i v6571), ∀ (k0_h3 : k0_cond3 i = 1#1), ∀ a, (k0_off3801 v6571) a + S8x128.size a ≤ S131072x128.size a := fun i v6571 k0_hw946 k0_h3 => k0_hw946.2 k0_h3

def k0_off3802 (i : grid0.Coords) : Fin 3 → Nat :=
  let c0_4126 : Index := 0#32
  let c0_4127 : Index := 0#32
  let arg1 : BitVec 32 := BitVec.ofNat 32 (i 1).val
  let c2_i32_4121 : BitVec 32 := 2#32
  let v6580 : BitVec 32 := Scalar.muli arg1 c2_i32_4121
  let c1_i32_4122 : BitVec 32 := 1#32
  let v6581 : BitVec 32 := Scalar.addi v6580 c1_i32_4122
  let c256_i32_4123 : BitVec 32 := 256#32
  let v6582 : BitVec 32 := Scalar.muli v6581 c256_i32_4123
  let c177_i32_4124 : BitVec 32 := 177#32
  let v6583 : BitVec 32 := Scalar.addi v6582 c177_i32_4124
  let v6585 : Index := Scalar.indexCast v6583
  ![0, 0, v6585.toNat]
def k0_mult1893 (v6586 : BitVec 32) : BitVec 32 :=
  v6586

def k0_mult1894 (i : grid0.Coords) : BitVec 32 :=
  let arg1 : BitVec 32 := BitVec.ofNat 32 (i 1).val
  let c2_i32_4121 : BitVec 32 := 2#32
  let v6580 : BitVec 32 := Scalar.muli arg1 c2_i32_4121
  let c1_i32_4122 : BitVec 32 := 1#32
  let v6581 : BitVec 32 := Scalar.addi v6580 c1_i32_4122
  let c256_i32_4123 : BitVec 32 := 256#32
  let v6582 : BitVec 32 := Scalar.muli v6581 c256_i32_4123
  let c177_i32_4124 : BitVec 32 := 177#32
  let v6583 : BitVec 32 := Scalar.addi v6582 c177_i32_4124
  let c8_i32_4128 : BitVec 32 := 8#32
  let v6588 : BitVec 32 := Scalar.muli v6583 c8_i32_4128
  v6588
def k0_off3803 (i : grid0.Coords) : Fin 1 → Nat :=
  let c1_i32_4125 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6584 : BitVec 32 := Scalar.subi c1_i32_4125 v9
  ![v6584.toNat]
def k0_off3804 (i : grid0.Coords) : Fin 3 → Nat :=
  let c1_i32_4125 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6584 : BitVec 32 := Scalar.subi c1_i32_4125 v9
  let arg1 : BitVec 32 := BitVec.ofNat 32 (i 1).val
  let c2_i32_4121 : BitVec 32 := 2#32
  let v6580 : BitVec 32 := Scalar.muli arg1 c2_i32_4121
  let c1_i32_4122 : BitVec 32 := 1#32
  let v6581 : BitVec 32 := Scalar.addi v6580 c1_i32_4122
  let c256_i32_4123 : BitVec 32 := 256#32
  let v6582 : BitVec 32 := Scalar.muli v6581 c256_i32_4123
  let c177_i32_4124 : BitVec 32 := 177#32
  let v6583 : BitVec 32 := Scalar.addi v6582 c177_i32_4124
  let c8_i32_4128 : BitVec 32 := 8#32
  let v6588 : BitVec 32 := Scalar.muli v6583 c8_i32_4128
  let v6589 : BitVec 32 := v6588
  let c0_i32_4129 : BitVec 32 := 0#32
  ![v6584.toNat, v6589.toNat, 0]
def k0_off3805 (v6586 : BitVec 32) : Fin 2 → Nat :=
  let v6587 : BitVec 32 := v6586
  let c0_i32_4130 : BitVec 32 := 0#32
  ![v6587.toNat, 0]

def k0_chk947 (i : grid0.Coords) (v6586 : BitVec 32) : Prop :=
  (∀ (k0_h3 : k0_cond3 i = 1#1), 8 ∣ (k0_mult1893 v6586).toNat) ∧
  (∀ (k0_h3 : k0_cond3 i = 1#1), ∀ a, (k0_off3805 v6586) a + S8x128.size a ≤ S131072x128.size a)
theorem k0_mult1893_dvd : ∀ (i : grid0.Coords) (v6586 : BitVec 32) (k0_hw947 : k0_chk947 i v6586), ∀ (k0_h3 : k0_cond3 i = 1#1), 8 ∣ (k0_mult1893 v6586).toNat := fun i v6586 k0_hw947 k0_h3 => k0_hw947.1 k0_h3
theorem k0_off3805_inb : ∀ (i : grid0.Coords) (v6586 : BitVec 32) (k0_hw947 : k0_chk947 i v6586), ∀ (k0_h3 : k0_cond3 i = 1#1), ∀ a, (k0_off3805 v6586) a + S8x128.size a ≤ S131072x128.size a := fun i v6586 k0_hw947 k0_h3 => k0_hw947.2 k0_h3

def k0_off3806 (i : grid0.Coords) : Fin 3 → Nat :=
  let c0_4136 : Index := 0#32
  let c0_4137 : Index := 0#32
  let arg1 : BitVec 32 := BitVec.ofNat 32 (i 1).val
  let c2_i32_4131 : BitVec 32 := 2#32
  let v6595 : BitVec 32 := Scalar.muli arg1 c2_i32_4131
  let c1_i32_4132 : BitVec 32 := 1#32
  let v6596 : BitVec 32 := Scalar.addi v6595 c1_i32_4132
  let c256_i32_4133 : BitVec 32 := 256#32
  let v6597 : BitVec 32 := Scalar.muli v6596 c256_i32_4133
  let c178_i32_4134 : BitVec 32 := 178#32
  let v6598 : BitVec 32 := Scalar.addi v6597 c178_i32_4134
  let v6600 : Index := Scalar.indexCast v6598
  ![0, 0, v6600.toNat]
def k0_mult1895 (v6601 : BitVec 32) : BitVec 32 :=
  v6601

def k0_mult1896 (i : grid0.Coords) : BitVec 32 :=
  let arg1 : BitVec 32 := BitVec.ofNat 32 (i 1).val
  let c2_i32_4131 : BitVec 32 := 2#32
  let v6595 : BitVec 32 := Scalar.muli arg1 c2_i32_4131
  let c1_i32_4132 : BitVec 32 := 1#32
  let v6596 : BitVec 32 := Scalar.addi v6595 c1_i32_4132
  let c256_i32_4133 : BitVec 32 := 256#32
  let v6597 : BitVec 32 := Scalar.muli v6596 c256_i32_4133
  let c178_i32_4134 : BitVec 32 := 178#32
  let v6598 : BitVec 32 := Scalar.addi v6597 c178_i32_4134
  let c8_i32_4138 : BitVec 32 := 8#32
  let v6603 : BitVec 32 := Scalar.muli v6598 c8_i32_4138
  v6603
def k0_off3807 (i : grid0.Coords) : Fin 1 → Nat :=
  let c1_i32_4135 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6599 : BitVec 32 := Scalar.subi c1_i32_4135 v9
  ![v6599.toNat]
def k0_off3808 (i : grid0.Coords) : Fin 3 → Nat :=
  let c1_i32_4135 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6599 : BitVec 32 := Scalar.subi c1_i32_4135 v9
  let arg1 : BitVec 32 := BitVec.ofNat 32 (i 1).val
  let c2_i32_4131 : BitVec 32 := 2#32
  let v6595 : BitVec 32 := Scalar.muli arg1 c2_i32_4131
  let c1_i32_4132 : BitVec 32 := 1#32
  let v6596 : BitVec 32 := Scalar.addi v6595 c1_i32_4132
  let c256_i32_4133 : BitVec 32 := 256#32
  let v6597 : BitVec 32 := Scalar.muli v6596 c256_i32_4133
  let c178_i32_4134 : BitVec 32 := 178#32
  let v6598 : BitVec 32 := Scalar.addi v6597 c178_i32_4134
  let c8_i32_4138 : BitVec 32 := 8#32
  let v6603 : BitVec 32 := Scalar.muli v6598 c8_i32_4138
  let v6604 : BitVec 32 := v6603
  let c0_i32_4139 : BitVec 32 := 0#32
  ![v6599.toNat, v6604.toNat, 0]
def k0_off3809 (v6601 : BitVec 32) : Fin 2 → Nat :=
  let v6602 : BitVec 32 := v6601
  let c0_i32_4140 : BitVec 32 := 0#32
  ![v6602.toNat, 0]

def k0_chk948 (i : grid0.Coords) (v6601 : BitVec 32) : Prop :=
  (∀ (k0_h3 : k0_cond3 i = 1#1), 8 ∣ (k0_mult1895 v6601).toNat) ∧
  (∀ (k0_h3 : k0_cond3 i = 1#1), ∀ a, (k0_off3809 v6601) a + S8x128.size a ≤ S131072x128.size a)
theorem k0_mult1895_dvd : ∀ (i : grid0.Coords) (v6601 : BitVec 32) (k0_hw948 : k0_chk948 i v6601), ∀ (k0_h3 : k0_cond3 i = 1#1), 8 ∣ (k0_mult1895 v6601).toNat := fun i v6601 k0_hw948 k0_h3 => k0_hw948.1 k0_h3
theorem k0_off3809_inb : ∀ (i : grid0.Coords) (v6601 : BitVec 32) (k0_hw948 : k0_chk948 i v6601), ∀ (k0_h3 : k0_cond3 i = 1#1), ∀ a, (k0_off3809 v6601) a + S8x128.size a ≤ S131072x128.size a := fun i v6601 k0_hw948 k0_h3 => k0_hw948.2 k0_h3

def k0_off3810 (i : grid0.Coords) : Fin 3 → Nat :=
  let c0_4146 : Index := 0#32
  let c0_4147 : Index := 0#32
  let arg1 : BitVec 32 := BitVec.ofNat 32 (i 1).val
  let c2_i32_4141 : BitVec 32 := 2#32
  let v6610 : BitVec 32 := Scalar.muli arg1 c2_i32_4141
  let c1_i32_4142 : BitVec 32 := 1#32
  let v6611 : BitVec 32 := Scalar.addi v6610 c1_i32_4142
  let c256_i32_4143 : BitVec 32 := 256#32
  let v6612 : BitVec 32 := Scalar.muli v6611 c256_i32_4143
  let c179_i32_4144 : BitVec 32 := 179#32
  let v6613 : BitVec 32 := Scalar.addi v6612 c179_i32_4144
  let v6615 : Index := Scalar.indexCast v6613
  ![0, 0, v6615.toNat]
def k0_mult1897 (v6616 : BitVec 32) : BitVec 32 :=
  v6616

def k0_mult1898 (i : grid0.Coords) : BitVec 32 :=
  let arg1 : BitVec 32 := BitVec.ofNat 32 (i 1).val
  let c2_i32_4141 : BitVec 32 := 2#32
  let v6610 : BitVec 32 := Scalar.muli arg1 c2_i32_4141
  let c1_i32_4142 : BitVec 32 := 1#32
  let v6611 : BitVec 32 := Scalar.addi v6610 c1_i32_4142
  let c256_i32_4143 : BitVec 32 := 256#32
  let v6612 : BitVec 32 := Scalar.muli v6611 c256_i32_4143
  let c179_i32_4144 : BitVec 32 := 179#32
  let v6613 : BitVec 32 := Scalar.addi v6612 c179_i32_4144
  let c8_i32_4148 : BitVec 32 := 8#32
  let v6618 : BitVec 32 := Scalar.muli v6613 c8_i32_4148
  v6618
def k0_off3811 (i : grid0.Coords) : Fin 1 → Nat :=
  let c1_i32_4145 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6614 : BitVec 32 := Scalar.subi c1_i32_4145 v9
  ![v6614.toNat]
def k0_off3812 (i : grid0.Coords) : Fin 3 → Nat :=
  let c1_i32_4145 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6614 : BitVec 32 := Scalar.subi c1_i32_4145 v9
  let arg1 : BitVec 32 := BitVec.ofNat 32 (i 1).val
  let c2_i32_4141 : BitVec 32 := 2#32
  let v6610 : BitVec 32 := Scalar.muli arg1 c2_i32_4141
  let c1_i32_4142 : BitVec 32 := 1#32
  let v6611 : BitVec 32 := Scalar.addi v6610 c1_i32_4142
  let c256_i32_4143 : BitVec 32 := 256#32
  let v6612 : BitVec 32 := Scalar.muli v6611 c256_i32_4143
  let c179_i32_4144 : BitVec 32 := 179#32
  let v6613 : BitVec 32 := Scalar.addi v6612 c179_i32_4144
  let c8_i32_4148 : BitVec 32 := 8#32
  let v6618 : BitVec 32 := Scalar.muli v6613 c8_i32_4148
  let v6619 : BitVec 32 := v6618
  let c0_i32_4149 : BitVec 32 := 0#32
  ![v6614.toNat, v6619.toNat, 0]
def k0_off3813 (v6616 : BitVec 32) : Fin 2 → Nat :=
  let v6617 : BitVec 32 := v6616
  let c0_i32_4150 : BitVec 32 := 0#32
  ![v6617.toNat, 0]

def k0_chk949 (i : grid0.Coords) (v6616 : BitVec 32) : Prop :=
  (∀ (k0_h3 : k0_cond3 i = 1#1), 8 ∣ (k0_mult1897 v6616).toNat) ∧
  (∀ (k0_h3 : k0_cond3 i = 1#1), ∀ a, (k0_off3813 v6616) a + S8x128.size a ≤ S131072x128.size a)
theorem k0_mult1897_dvd : ∀ (i : grid0.Coords) (v6616 : BitVec 32) (k0_hw949 : k0_chk949 i v6616), ∀ (k0_h3 : k0_cond3 i = 1#1), 8 ∣ (k0_mult1897 v6616).toNat := fun i v6616 k0_hw949 k0_h3 => k0_hw949.1 k0_h3
theorem k0_off3813_inb : ∀ (i : grid0.Coords) (v6616 : BitVec 32) (k0_hw949 : k0_chk949 i v6616), ∀ (k0_h3 : k0_cond3 i = 1#1), ∀ a, (k0_off3813 v6616) a + S8x128.size a ≤ S131072x128.size a := fun i v6616 k0_hw949 k0_h3 => k0_hw949.2 k0_h3

def k0_off3814 (i : grid0.Coords) : Fin 3 → Nat :=
  let c0_4156 : Index := 0#32
  let c0_4157 : Index := 0#32
  let arg1 : BitVec 32 := BitVec.ofNat 32 (i 1).val
  let c2_i32_4151 : BitVec 32 := 2#32
  let v6625 : BitVec 32 := Scalar.muli arg1 c2_i32_4151
  let c1_i32_4152 : BitVec 32 := 1#32
  let v6626 : BitVec 32 := Scalar.addi v6625 c1_i32_4152
  let c256_i32_4153 : BitVec 32 := 256#32
  let v6627 : BitVec 32 := Scalar.muli v6626 c256_i32_4153
  let c180_i32_4154 : BitVec 32 := 180#32
  let v6628 : BitVec 32 := Scalar.addi v6627 c180_i32_4154
  let v6630 : Index := Scalar.indexCast v6628
  ![0, 0, v6630.toNat]
def k0_mult1899 (v6631 : BitVec 32) : BitVec 32 :=
  v6631

def k0_mult1900 (i : grid0.Coords) : BitVec 32 :=
  let arg1 : BitVec 32 := BitVec.ofNat 32 (i 1).val
  let c2_i32_4151 : BitVec 32 := 2#32
  let v6625 : BitVec 32 := Scalar.muli arg1 c2_i32_4151
  let c1_i32_4152 : BitVec 32 := 1#32
  let v6626 : BitVec 32 := Scalar.addi v6625 c1_i32_4152
  let c256_i32_4153 : BitVec 32 := 256#32
  let v6627 : BitVec 32 := Scalar.muli v6626 c256_i32_4153
  let c180_i32_4154 : BitVec 32 := 180#32
  let v6628 : BitVec 32 := Scalar.addi v6627 c180_i32_4154
  let c8_i32_4158 : BitVec 32 := 8#32
  let v6633 : BitVec 32 := Scalar.muli v6628 c8_i32_4158
  v6633
def k0_off3815 (i : grid0.Coords) : Fin 1 → Nat :=
  let c1_i32_4155 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6629 : BitVec 32 := Scalar.subi c1_i32_4155 v9
  ![v6629.toNat]
def k0_off3816 (i : grid0.Coords) : Fin 3 → Nat :=
  let c1_i32_4155 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6629 : BitVec 32 := Scalar.subi c1_i32_4155 v9
  let arg1 : BitVec 32 := BitVec.ofNat 32 (i 1).val
  let c2_i32_4151 : BitVec 32 := 2#32
  let v6625 : BitVec 32 := Scalar.muli arg1 c2_i32_4151
  let c1_i32_4152 : BitVec 32 := 1#32
  let v6626 : BitVec 32 := Scalar.addi v6625 c1_i32_4152
  let c256_i32_4153 : BitVec 32 := 256#32
  let v6627 : BitVec 32 := Scalar.muli v6626 c256_i32_4153
  let c180_i32_4154 : BitVec 32 := 180#32
  let v6628 : BitVec 32 := Scalar.addi v6627 c180_i32_4154
  let c8_i32_4158 : BitVec 32 := 8#32
  let v6633 : BitVec 32 := Scalar.muli v6628 c8_i32_4158
  let v6634 : BitVec 32 := v6633
  let c0_i32_4159 : BitVec 32 := 0#32
  ![v6629.toNat, v6634.toNat, 0]
def k0_off3817 (v6631 : BitVec 32) : Fin 2 → Nat :=
  let v6632 : BitVec 32 := v6631
  let c0_i32_4160 : BitVec 32 := 0#32
  ![v6632.toNat, 0]

def k0_chk950 (i : grid0.Coords) (v6631 : BitVec 32) : Prop :=
  (∀ (k0_h3 : k0_cond3 i = 1#1), 8 ∣ (k0_mult1899 v6631).toNat) ∧
  (∀ (k0_h3 : k0_cond3 i = 1#1), ∀ a, (k0_off3817 v6631) a + S8x128.size a ≤ S131072x128.size a)
theorem k0_mult1899_dvd : ∀ (i : grid0.Coords) (v6631 : BitVec 32) (k0_hw950 : k0_chk950 i v6631), ∀ (k0_h3 : k0_cond3 i = 1#1), 8 ∣ (k0_mult1899 v6631).toNat := fun i v6631 k0_hw950 k0_h3 => k0_hw950.1 k0_h3
theorem k0_off3817_inb : ∀ (i : grid0.Coords) (v6631 : BitVec 32) (k0_hw950 : k0_chk950 i v6631), ∀ (k0_h3 : k0_cond3 i = 1#1), ∀ a, (k0_off3817 v6631) a + S8x128.size a ≤ S131072x128.size a := fun i v6631 k0_hw950 k0_h3 => k0_hw950.2 k0_h3

def k0_off3818 (i : grid0.Coords) : Fin 3 → Nat :=
  let c0_4166 : Index := 0#32
  let c0_4167 : Index := 0#32
  let arg1 : BitVec 32 := BitVec.ofNat 32 (i 1).val
  let c2_i32_4161 : BitVec 32 := 2#32
  let v6640 : BitVec 32 := Scalar.muli arg1 c2_i32_4161
  let c1_i32_4162 : BitVec 32 := 1#32
  let v6641 : BitVec 32 := Scalar.addi v6640 c1_i32_4162
  let c256_i32_4163 : BitVec 32 := 256#32
  let v6642 : BitVec 32 := Scalar.muli v6641 c256_i32_4163
  let c181_i32_4164 : BitVec 32 := 181#32
  let v6643 : BitVec 32 := Scalar.addi v6642 c181_i32_4164
  let v6645 : Index := Scalar.indexCast v6643
  ![0, 0, v6645.toNat]
def k0_mult1901 (v6646 : BitVec 32) : BitVec 32 :=
  v6646

def k0_mult1902 (i : grid0.Coords) : BitVec 32 :=
  let arg1 : BitVec 32 := BitVec.ofNat 32 (i 1).val
  let c2_i32_4161 : BitVec 32 := 2#32
  let v6640 : BitVec 32 := Scalar.muli arg1 c2_i32_4161
  let c1_i32_4162 : BitVec 32 := 1#32
  let v6641 : BitVec 32 := Scalar.addi v6640 c1_i32_4162
  let c256_i32_4163 : BitVec 32 := 256#32
  let v6642 : BitVec 32 := Scalar.muli v6641 c256_i32_4163
  let c181_i32_4164 : BitVec 32 := 181#32
  let v6643 : BitVec 32 := Scalar.addi v6642 c181_i32_4164
  let c8_i32_4168 : BitVec 32 := 8#32
  let v6648 : BitVec 32 := Scalar.muli v6643 c8_i32_4168
  v6648
def k0_off3819 (i : grid0.Coords) : Fin 1 → Nat :=
  let c1_i32_4165 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6644 : BitVec 32 := Scalar.subi c1_i32_4165 v9
  ![v6644.toNat]
def k0_off3820 (i : grid0.Coords) : Fin 3 → Nat :=
  let c1_i32_4165 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6644 : BitVec 32 := Scalar.subi c1_i32_4165 v9
  let arg1 : BitVec 32 := BitVec.ofNat 32 (i 1).val
  let c2_i32_4161 : BitVec 32 := 2#32
  let v6640 : BitVec 32 := Scalar.muli arg1 c2_i32_4161
  let c1_i32_4162 : BitVec 32 := 1#32
  let v6641 : BitVec 32 := Scalar.addi v6640 c1_i32_4162
  let c256_i32_4163 : BitVec 32 := 256#32
  let v6642 : BitVec 32 := Scalar.muli v6641 c256_i32_4163
  let c181_i32_4164 : BitVec 32 := 181#32
  let v6643 : BitVec 32 := Scalar.addi v6642 c181_i32_4164
  let c8_i32_4168 : BitVec 32 := 8#32
  let v6648 : BitVec 32 := Scalar.muli v6643 c8_i32_4168
  let v6649 : BitVec 32 := v6648
  let c0_i32_4169 : BitVec 32 := 0#32
  ![v6644.toNat, v6649.toNat, 0]
def k0_off3821 (v6646 : BitVec 32) : Fin 2 → Nat :=
  let v6647 : BitVec 32 := v6646
  let c0_i32_4170 : BitVec 32 := 0#32
  ![v6647.toNat, 0]

def k0_chk951 (i : grid0.Coords) (v6646 : BitVec 32) : Prop :=
  (∀ (k0_h3 : k0_cond3 i = 1#1), 8 ∣ (k0_mult1901 v6646).toNat) ∧
  (∀ (k0_h3 : k0_cond3 i = 1#1), ∀ a, (k0_off3821 v6646) a + S8x128.size a ≤ S131072x128.size a)
theorem k0_mult1901_dvd : ∀ (i : grid0.Coords) (v6646 : BitVec 32) (k0_hw951 : k0_chk951 i v6646), ∀ (k0_h3 : k0_cond3 i = 1#1), 8 ∣ (k0_mult1901 v6646).toNat := fun i v6646 k0_hw951 k0_h3 => k0_hw951.1 k0_h3
theorem k0_off3821_inb : ∀ (i : grid0.Coords) (v6646 : BitVec 32) (k0_hw951 : k0_chk951 i v6646), ∀ (k0_h3 : k0_cond3 i = 1#1), ∀ a, (k0_off3821 v6646) a + S8x128.size a ≤ S131072x128.size a := fun i v6646 k0_hw951 k0_h3 => k0_hw951.2 k0_h3

def k0_off3822 (i : grid0.Coords) : Fin 3 → Nat :=
  let c0_4176 : Index := 0#32
  let c0_4177 : Index := 0#32
  let arg1 : BitVec 32 := BitVec.ofNat 32 (i 1).val
  let c2_i32_4171 : BitVec 32 := 2#32
  let v6655 : BitVec 32 := Scalar.muli arg1 c2_i32_4171
  let c1_i32_4172 : BitVec 32 := 1#32
  let v6656 : BitVec 32 := Scalar.addi v6655 c1_i32_4172
  let c256_i32_4173 : BitVec 32 := 256#32
  let v6657 : BitVec 32 := Scalar.muli v6656 c256_i32_4173
  let c182_i32_4174 : BitVec 32 := 182#32
  let v6658 : BitVec 32 := Scalar.addi v6657 c182_i32_4174
  let v6660 : Index := Scalar.indexCast v6658
  ![0, 0, v6660.toNat]
def k0_mult1903 (v6661 : BitVec 32) : BitVec 32 :=
  v6661

def k0_mult1904 (i : grid0.Coords) : BitVec 32 :=
  let arg1 : BitVec 32 := BitVec.ofNat 32 (i 1).val
  let c2_i32_4171 : BitVec 32 := 2#32
  let v6655 : BitVec 32 := Scalar.muli arg1 c2_i32_4171
  let c1_i32_4172 : BitVec 32 := 1#32
  let v6656 : BitVec 32 := Scalar.addi v6655 c1_i32_4172
  let c256_i32_4173 : BitVec 32 := 256#32
  let v6657 : BitVec 32 := Scalar.muli v6656 c256_i32_4173
  let c182_i32_4174 : BitVec 32 := 182#32
  let v6658 : BitVec 32 := Scalar.addi v6657 c182_i32_4174
  let c8_i32_4178 : BitVec 32 := 8#32
  let v6663 : BitVec 32 := Scalar.muli v6658 c8_i32_4178
  v6663
def k0_off3823 (i : grid0.Coords) : Fin 1 → Nat :=
  let c1_i32_4175 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6659 : BitVec 32 := Scalar.subi c1_i32_4175 v9
  ![v6659.toNat]
def k0_off3824 (i : grid0.Coords) : Fin 3 → Nat :=
  let c1_i32_4175 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6659 : BitVec 32 := Scalar.subi c1_i32_4175 v9
  let arg1 : BitVec 32 := BitVec.ofNat 32 (i 1).val
  let c2_i32_4171 : BitVec 32 := 2#32
  let v6655 : BitVec 32 := Scalar.muli arg1 c2_i32_4171
  let c1_i32_4172 : BitVec 32 := 1#32
  let v6656 : BitVec 32 := Scalar.addi v6655 c1_i32_4172
  let c256_i32_4173 : BitVec 32 := 256#32
  let v6657 : BitVec 32 := Scalar.muli v6656 c256_i32_4173
  let c182_i32_4174 : BitVec 32 := 182#32
  let v6658 : BitVec 32 := Scalar.addi v6657 c182_i32_4174
  let c8_i32_4178 : BitVec 32 := 8#32
  let v6663 : BitVec 32 := Scalar.muli v6658 c8_i32_4178
  let v6664 : BitVec 32 := v6663
  let c0_i32_4179 : BitVec 32 := 0#32
  ![v6659.toNat, v6664.toNat, 0]
def k0_off3825 (v6661 : BitVec 32) : Fin 2 → Nat :=
  let v6662 : BitVec 32 := v6661
  let c0_i32_4180 : BitVec 32 := 0#32
  ![v6662.toNat, 0]

def k0_chk952 (i : grid0.Coords) (v6661 : BitVec 32) : Prop :=
  (∀ (k0_h3 : k0_cond3 i = 1#1), 8 ∣ (k0_mult1903 v6661).toNat) ∧
  (∀ (k0_h3 : k0_cond3 i = 1#1), ∀ a, (k0_off3825 v6661) a + S8x128.size a ≤ S131072x128.size a)
theorem k0_mult1903_dvd : ∀ (i : grid0.Coords) (v6661 : BitVec 32) (k0_hw952 : k0_chk952 i v6661), ∀ (k0_h3 : k0_cond3 i = 1#1), 8 ∣ (k0_mult1903 v6661).toNat := fun i v6661 k0_hw952 k0_h3 => k0_hw952.1 k0_h3
theorem k0_off3825_inb : ∀ (i : grid0.Coords) (v6661 : BitVec 32) (k0_hw952 : k0_chk952 i v6661), ∀ (k0_h3 : k0_cond3 i = 1#1), ∀ a, (k0_off3825 v6661) a + S8x128.size a ≤ S131072x128.size a := fun i v6661 k0_hw952 k0_h3 => k0_hw952.2 k0_h3

def k0_off3826 (i : grid0.Coords) : Fin 3 → Nat :=
  let c0_4186 : Index := 0#32
  let c0_4187 : Index := 0#32
  let arg1 : BitVec 32 := BitVec.ofNat 32 (i 1).val
  let c2_i32_4181 : BitVec 32 := 2#32
  let v6670 : BitVec 32 := Scalar.muli arg1 c2_i32_4181
  let c1_i32_4182 : BitVec 32 := 1#32
  let v6671 : BitVec 32 := Scalar.addi v6670 c1_i32_4182
  let c256_i32_4183 : BitVec 32 := 256#32
  let v6672 : BitVec 32 := Scalar.muli v6671 c256_i32_4183
  let c183_i32_4184 : BitVec 32 := 183#32
  let v6673 : BitVec 32 := Scalar.addi v6672 c183_i32_4184
  let v6675 : Index := Scalar.indexCast v6673
  ![0, 0, v6675.toNat]
def k0_mult1905 (v6676 : BitVec 32) : BitVec 32 :=
  v6676

def k0_mult1906 (i : grid0.Coords) : BitVec 32 :=
  let arg1 : BitVec 32 := BitVec.ofNat 32 (i 1).val
  let c2_i32_4181 : BitVec 32 := 2#32
  let v6670 : BitVec 32 := Scalar.muli arg1 c2_i32_4181
  let c1_i32_4182 : BitVec 32 := 1#32
  let v6671 : BitVec 32 := Scalar.addi v6670 c1_i32_4182
  let c256_i32_4183 : BitVec 32 := 256#32
  let v6672 : BitVec 32 := Scalar.muli v6671 c256_i32_4183
  let c183_i32_4184 : BitVec 32 := 183#32
  let v6673 : BitVec 32 := Scalar.addi v6672 c183_i32_4184
  let c8_i32_4188 : BitVec 32 := 8#32
  let v6678 : BitVec 32 := Scalar.muli v6673 c8_i32_4188
  v6678
def k0_off3827 (i : grid0.Coords) : Fin 1 → Nat :=
  let c1_i32_4185 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6674 : BitVec 32 := Scalar.subi c1_i32_4185 v9
  ![v6674.toNat]
def k0_off3828 (i : grid0.Coords) : Fin 3 → Nat :=
  let c1_i32_4185 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6674 : BitVec 32 := Scalar.subi c1_i32_4185 v9
  let arg1 : BitVec 32 := BitVec.ofNat 32 (i 1).val
  let c2_i32_4181 : BitVec 32 := 2#32
  let v6670 : BitVec 32 := Scalar.muli arg1 c2_i32_4181
  let c1_i32_4182 : BitVec 32 := 1#32
  let v6671 : BitVec 32 := Scalar.addi v6670 c1_i32_4182
  let c256_i32_4183 : BitVec 32 := 256#32
  let v6672 : BitVec 32 := Scalar.muli v6671 c256_i32_4183
  let c183_i32_4184 : BitVec 32 := 183#32
  let v6673 : BitVec 32 := Scalar.addi v6672 c183_i32_4184
  let c8_i32_4188 : BitVec 32 := 8#32
  let v6678 : BitVec 32 := Scalar.muli v6673 c8_i32_4188
  let v6679 : BitVec 32 := v6678
  let c0_i32_4189 : BitVec 32 := 0#32
  ![v6674.toNat, v6679.toNat, 0]
def k0_off3829 (v6676 : BitVec 32) : Fin 2 → Nat :=
  let v6677 : BitVec 32 := v6676
  let c0_i32_4190 : BitVec 32 := 0#32
  ![v6677.toNat, 0]

def k0_chk953 (i : grid0.Coords) (v6676 : BitVec 32) : Prop :=
  (∀ (k0_h3 : k0_cond3 i = 1#1), 8 ∣ (k0_mult1905 v6676).toNat) ∧
  (∀ (k0_h3 : k0_cond3 i = 1#1), ∀ a, (k0_off3829 v6676) a + S8x128.size a ≤ S131072x128.size a)
theorem k0_mult1905_dvd : ∀ (i : grid0.Coords) (v6676 : BitVec 32) (k0_hw953 : k0_chk953 i v6676), ∀ (k0_h3 : k0_cond3 i = 1#1), 8 ∣ (k0_mult1905 v6676).toNat := fun i v6676 k0_hw953 k0_h3 => k0_hw953.1 k0_h3
theorem k0_off3829_inb : ∀ (i : grid0.Coords) (v6676 : BitVec 32) (k0_hw953 : k0_chk953 i v6676), ∀ (k0_h3 : k0_cond3 i = 1#1), ∀ a, (k0_off3829 v6676) a + S8x128.size a ≤ S131072x128.size a := fun i v6676 k0_hw953 k0_h3 => k0_hw953.2 k0_h3

def k0_off3830 (i : grid0.Coords) : Fin 3 → Nat :=
  let c0_4196 : Index := 0#32
  let c0_4197 : Index := 0#32
  let arg1 : BitVec 32 := BitVec.ofNat 32 (i 1).val
  let c2_i32_4191 : BitVec 32 := 2#32
  let v6685 : BitVec 32 := Scalar.muli arg1 c2_i32_4191
  let c1_i32_4192 : BitVec 32 := 1#32
  let v6686 : BitVec 32 := Scalar.addi v6685 c1_i32_4192
  let c256_i32_4193 : BitVec 32 := 256#32
  let v6687 : BitVec 32 := Scalar.muli v6686 c256_i32_4193
  let c184_i32_4194 : BitVec 32 := 184#32
  let v6688 : BitVec 32 := Scalar.addi v6687 c184_i32_4194
  let v6690 : Index := Scalar.indexCast v6688
  ![0, 0, v6690.toNat]
def k0_mult1907 (v6691 : BitVec 32) : BitVec 32 :=
  v6691

def k0_mult1908 (i : grid0.Coords) : BitVec 32 :=
  let arg1 : BitVec 32 := BitVec.ofNat 32 (i 1).val
  let c2_i32_4191 : BitVec 32 := 2#32
  let v6685 : BitVec 32 := Scalar.muli arg1 c2_i32_4191
  let c1_i32_4192 : BitVec 32 := 1#32
  let v6686 : BitVec 32 := Scalar.addi v6685 c1_i32_4192
  let c256_i32_4193 : BitVec 32 := 256#32
  let v6687 : BitVec 32 := Scalar.muli v6686 c256_i32_4193
  let c184_i32_4194 : BitVec 32 := 184#32
  let v6688 : BitVec 32 := Scalar.addi v6687 c184_i32_4194
  let c8_i32_4198 : BitVec 32 := 8#32
  let v6693 : BitVec 32 := Scalar.muli v6688 c8_i32_4198
  v6693
def k0_off3831 (i : grid0.Coords) : Fin 1 → Nat :=
  let c1_i32_4195 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6689 : BitVec 32 := Scalar.subi c1_i32_4195 v9
  ![v6689.toNat]
def k0_off3832 (i : grid0.Coords) : Fin 3 → Nat :=
  let c1_i32_4195 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6689 : BitVec 32 := Scalar.subi c1_i32_4195 v9
  let arg1 : BitVec 32 := BitVec.ofNat 32 (i 1).val
  let c2_i32_4191 : BitVec 32 := 2#32
  let v6685 : BitVec 32 := Scalar.muli arg1 c2_i32_4191
  let c1_i32_4192 : BitVec 32 := 1#32
  let v6686 : BitVec 32 := Scalar.addi v6685 c1_i32_4192
  let c256_i32_4193 : BitVec 32 := 256#32
  let v6687 : BitVec 32 := Scalar.muli v6686 c256_i32_4193
  let c184_i32_4194 : BitVec 32 := 184#32
  let v6688 : BitVec 32 := Scalar.addi v6687 c184_i32_4194
  let c8_i32_4198 : BitVec 32 := 8#32
  let v6693 : BitVec 32 := Scalar.muli v6688 c8_i32_4198
  let v6694 : BitVec 32 := v6693
  let c0_i32_4199 : BitVec 32 := 0#32
  ![v6689.toNat, v6694.toNat, 0]
def k0_off3833 (v6691 : BitVec 32) : Fin 2 → Nat :=
  let v6692 : BitVec 32 := v6691
  let c0_i32_4200 : BitVec 32 := 0#32
  ![v6692.toNat, 0]

def k0_chk954 (i : grid0.Coords) (v6691 : BitVec 32) : Prop :=
  (∀ (k0_h3 : k0_cond3 i = 1#1), 8 ∣ (k0_mult1907 v6691).toNat) ∧
  (∀ (k0_h3 : k0_cond3 i = 1#1), ∀ a, (k0_off3833 v6691) a + S8x128.size a ≤ S131072x128.size a)
theorem k0_mult1907_dvd : ∀ (i : grid0.Coords) (v6691 : BitVec 32) (k0_hw954 : k0_chk954 i v6691), ∀ (k0_h3 : k0_cond3 i = 1#1), 8 ∣ (k0_mult1907 v6691).toNat := fun i v6691 k0_hw954 k0_h3 => k0_hw954.1 k0_h3
theorem k0_off3833_inb : ∀ (i : grid0.Coords) (v6691 : BitVec 32) (k0_hw954 : k0_chk954 i v6691), ∀ (k0_h3 : k0_cond3 i = 1#1), ∀ a, (k0_off3833 v6691) a + S8x128.size a ≤ S131072x128.size a := fun i v6691 k0_hw954 k0_h3 => k0_hw954.2 k0_h3

def k0_off3834 (i : grid0.Coords) : Fin 3 → Nat :=
  let c0_4206 : Index := 0#32
  let c0_4207 : Index := 0#32
  let arg1 : BitVec 32 := BitVec.ofNat 32 (i 1).val
  let c2_i32_4201 : BitVec 32 := 2#32
  let v6700 : BitVec 32 := Scalar.muli arg1 c2_i32_4201
  let c1_i32_4202 : BitVec 32 := 1#32
  let v6701 : BitVec 32 := Scalar.addi v6700 c1_i32_4202
  let c256_i32_4203 : BitVec 32 := 256#32
  let v6702 : BitVec 32 := Scalar.muli v6701 c256_i32_4203
  let c185_i32_4204 : BitVec 32 := 185#32
  let v6703 : BitVec 32 := Scalar.addi v6702 c185_i32_4204
  let v6705 : Index := Scalar.indexCast v6703
  ![0, 0, v6705.toNat]
def k0_mult1909 (v6706 : BitVec 32) : BitVec 32 :=
  v6706

def k0_mult1910 (i : grid0.Coords) : BitVec 32 :=
  let arg1 : BitVec 32 := BitVec.ofNat 32 (i 1).val
  let c2_i32_4201 : BitVec 32 := 2#32
  let v6700 : BitVec 32 := Scalar.muli arg1 c2_i32_4201
  let c1_i32_4202 : BitVec 32 := 1#32
  let v6701 : BitVec 32 := Scalar.addi v6700 c1_i32_4202
  let c256_i32_4203 : BitVec 32 := 256#32
  let v6702 : BitVec 32 := Scalar.muli v6701 c256_i32_4203
  let c185_i32_4204 : BitVec 32 := 185#32
  let v6703 : BitVec 32 := Scalar.addi v6702 c185_i32_4204
  let c8_i32_4208 : BitVec 32 := 8#32
  let v6708 : BitVec 32 := Scalar.muli v6703 c8_i32_4208
  v6708
def k0_off3835 (i : grid0.Coords) : Fin 1 → Nat :=
  let c1_i32_4205 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6704 : BitVec 32 := Scalar.subi c1_i32_4205 v9
  ![v6704.toNat]
def k0_off3836 (i : grid0.Coords) : Fin 3 → Nat :=
  let c1_i32_4205 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6704 : BitVec 32 := Scalar.subi c1_i32_4205 v9
  let arg1 : BitVec 32 := BitVec.ofNat 32 (i 1).val
  let c2_i32_4201 : BitVec 32 := 2#32
  let v6700 : BitVec 32 := Scalar.muli arg1 c2_i32_4201
  let c1_i32_4202 : BitVec 32 := 1#32
  let v6701 : BitVec 32 := Scalar.addi v6700 c1_i32_4202
  let c256_i32_4203 : BitVec 32 := 256#32
  let v6702 : BitVec 32 := Scalar.muli v6701 c256_i32_4203
  let c185_i32_4204 : BitVec 32 := 185#32
  let v6703 : BitVec 32 := Scalar.addi v6702 c185_i32_4204
  let c8_i32_4208 : BitVec 32 := 8#32
  let v6708 : BitVec 32 := Scalar.muli v6703 c8_i32_4208
  let v6709 : BitVec 32 := v6708
  let c0_i32_4209 : BitVec 32 := 0#32
  ![v6704.toNat, v6709.toNat, 0]
def k0_off3837 (v6706 : BitVec 32) : Fin 2 → Nat :=
  let v6707 : BitVec 32 := v6706
  let c0_i32_4210 : BitVec 32 := 0#32
  ![v6707.toNat, 0]

def k0_chk955 (i : grid0.Coords) (v6706 : BitVec 32) : Prop :=
  (∀ (k0_h3 : k0_cond3 i = 1#1), 8 ∣ (k0_mult1909 v6706).toNat) ∧
  (∀ (k0_h3 : k0_cond3 i = 1#1), ∀ a, (k0_off3837 v6706) a + S8x128.size a ≤ S131072x128.size a)
theorem k0_mult1909_dvd : ∀ (i : grid0.Coords) (v6706 : BitVec 32) (k0_hw955 : k0_chk955 i v6706), ∀ (k0_h3 : k0_cond3 i = 1#1), 8 ∣ (k0_mult1909 v6706).toNat := fun i v6706 k0_hw955 k0_h3 => k0_hw955.1 k0_h3
theorem k0_off3837_inb : ∀ (i : grid0.Coords) (v6706 : BitVec 32) (k0_hw955 : k0_chk955 i v6706), ∀ (k0_h3 : k0_cond3 i = 1#1), ∀ a, (k0_off3837 v6706) a + S8x128.size a ≤ S131072x128.size a := fun i v6706 k0_hw955 k0_h3 => k0_hw955.2 k0_h3

def k0_off3838 (i : grid0.Coords) : Fin 3 → Nat :=
  let c0_4216 : Index := 0#32
  let c0_4217 : Index := 0#32
  let arg1 : BitVec 32 := BitVec.ofNat 32 (i 1).val
  let c2_i32_4211 : BitVec 32 := 2#32
  let v6715 : BitVec 32 := Scalar.muli arg1 c2_i32_4211
  let c1_i32_4212 : BitVec 32 := 1#32
  let v6716 : BitVec 32 := Scalar.addi v6715 c1_i32_4212
  let c256_i32_4213 : BitVec 32 := 256#32
  let v6717 : BitVec 32 := Scalar.muli v6716 c256_i32_4213
  let c186_i32_4214 : BitVec 32 := 186#32
  let v6718 : BitVec 32 := Scalar.addi v6717 c186_i32_4214
  let v6720 : Index := Scalar.indexCast v6718
  ![0, 0, v6720.toNat]
def k0_mult1911 (v6721 : BitVec 32) : BitVec 32 :=
  v6721

def k0_mult1912 (i : grid0.Coords) : BitVec 32 :=
  let arg1 : BitVec 32 := BitVec.ofNat 32 (i 1).val
  let c2_i32_4211 : BitVec 32 := 2#32
  let v6715 : BitVec 32 := Scalar.muli arg1 c2_i32_4211
  let c1_i32_4212 : BitVec 32 := 1#32
  let v6716 : BitVec 32 := Scalar.addi v6715 c1_i32_4212
  let c256_i32_4213 : BitVec 32 := 256#32
  let v6717 : BitVec 32 := Scalar.muli v6716 c256_i32_4213
  let c186_i32_4214 : BitVec 32 := 186#32
  let v6718 : BitVec 32 := Scalar.addi v6717 c186_i32_4214
  let c8_i32_4218 : BitVec 32 := 8#32
  let v6723 : BitVec 32 := Scalar.muli v6718 c8_i32_4218
  v6723
def k0_off3839 (i : grid0.Coords) : Fin 1 → Nat :=
  let c1_i32_4215 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6719 : BitVec 32 := Scalar.subi c1_i32_4215 v9
  ![v6719.toNat]
def k0_off3840 (i : grid0.Coords) : Fin 3 → Nat :=
  let c1_i32_4215 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6719 : BitVec 32 := Scalar.subi c1_i32_4215 v9
  let arg1 : BitVec 32 := BitVec.ofNat 32 (i 1).val
  let c2_i32_4211 : BitVec 32 := 2#32
  let v6715 : BitVec 32 := Scalar.muli arg1 c2_i32_4211
  let c1_i32_4212 : BitVec 32 := 1#32
  let v6716 : BitVec 32 := Scalar.addi v6715 c1_i32_4212
  let c256_i32_4213 : BitVec 32 := 256#32
  let v6717 : BitVec 32 := Scalar.muli v6716 c256_i32_4213
  let c186_i32_4214 : BitVec 32 := 186#32
  let v6718 : BitVec 32 := Scalar.addi v6717 c186_i32_4214
  let c8_i32_4218 : BitVec 32 := 8#32
  let v6723 : BitVec 32 := Scalar.muli v6718 c8_i32_4218
  let v6724 : BitVec 32 := v6723
  let c0_i32_4219 : BitVec 32 := 0#32
  ![v6719.toNat, v6724.toNat, 0]
def k0_off3841 (v6721 : BitVec 32) : Fin 2 → Nat :=
  let v6722 : BitVec 32 := v6721
  let c0_i32_4220 : BitVec 32 := 0#32
  ![v6722.toNat, 0]

def k0_chk956 (i : grid0.Coords) (v6721 : BitVec 32) : Prop :=
  (∀ (k0_h3 : k0_cond3 i = 1#1), 8 ∣ (k0_mult1911 v6721).toNat) ∧
  (∀ (k0_h3 : k0_cond3 i = 1#1), ∀ a, (k0_off3841 v6721) a + S8x128.size a ≤ S131072x128.size a)
theorem k0_mult1911_dvd : ∀ (i : grid0.Coords) (v6721 : BitVec 32) (k0_hw956 : k0_chk956 i v6721), ∀ (k0_h3 : k0_cond3 i = 1#1), 8 ∣ (k0_mult1911 v6721).toNat := fun i v6721 k0_hw956 k0_h3 => k0_hw956.1 k0_h3
theorem k0_off3841_inb : ∀ (i : grid0.Coords) (v6721 : BitVec 32) (k0_hw956 : k0_chk956 i v6721), ∀ (k0_h3 : k0_cond3 i = 1#1), ∀ a, (k0_off3841 v6721) a + S8x128.size a ≤ S131072x128.size a := fun i v6721 k0_hw956 k0_h3 => k0_hw956.2 k0_h3

def k0_off3842 (i : grid0.Coords) : Fin 3 → Nat :=
  let c0_4226 : Index := 0#32
  let c0_4227 : Index := 0#32
  let arg1 : BitVec 32 := BitVec.ofNat 32 (i 1).val
  let c2_i32_4221 : BitVec 32 := 2#32
  let v6730 : BitVec 32 := Scalar.muli arg1 c2_i32_4221
  let c1_i32_4222 : BitVec 32 := 1#32
  let v6731 : BitVec 32 := Scalar.addi v6730 c1_i32_4222
  let c256_i32_4223 : BitVec 32 := 256#32
  let v6732 : BitVec 32 := Scalar.muli v6731 c256_i32_4223
  let c187_i32_4224 : BitVec 32 := 187#32
  let v6733 : BitVec 32 := Scalar.addi v6732 c187_i32_4224
  let v6735 : Index := Scalar.indexCast v6733
  ![0, 0, v6735.toNat]
def k0_mult1913 (v6736 : BitVec 32) : BitVec 32 :=
  v6736

def k0_mult1914 (i : grid0.Coords) : BitVec 32 :=
  let arg1 : BitVec 32 := BitVec.ofNat 32 (i 1).val
  let c2_i32_4221 : BitVec 32 := 2#32
  let v6730 : BitVec 32 := Scalar.muli arg1 c2_i32_4221
  let c1_i32_4222 : BitVec 32 := 1#32
  let v6731 : BitVec 32 := Scalar.addi v6730 c1_i32_4222
  let c256_i32_4223 : BitVec 32 := 256#32
  let v6732 : BitVec 32 := Scalar.muli v6731 c256_i32_4223
  let c187_i32_4224 : BitVec 32 := 187#32
  let v6733 : BitVec 32 := Scalar.addi v6732 c187_i32_4224
  let c8_i32_4228 : BitVec 32 := 8#32
  let v6738 : BitVec 32 := Scalar.muli v6733 c8_i32_4228
  v6738
def k0_off3843 (i : grid0.Coords) : Fin 1 → Nat :=
  let c1_i32_4225 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6734 : BitVec 32 := Scalar.subi c1_i32_4225 v9
  ![v6734.toNat]
def k0_off3844 (i : grid0.Coords) : Fin 3 → Nat :=
  let c1_i32_4225 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6734 : BitVec 32 := Scalar.subi c1_i32_4225 v9
  let arg1 : BitVec 32 := BitVec.ofNat 32 (i 1).val
  let c2_i32_4221 : BitVec 32 := 2#32
  let v6730 : BitVec 32 := Scalar.muli arg1 c2_i32_4221
  let c1_i32_4222 : BitVec 32 := 1#32
  let v6731 : BitVec 32 := Scalar.addi v6730 c1_i32_4222
  let c256_i32_4223 : BitVec 32 := 256#32
  let v6732 : BitVec 32 := Scalar.muli v6731 c256_i32_4223
  let c187_i32_4224 : BitVec 32 := 187#32
  let v6733 : BitVec 32 := Scalar.addi v6732 c187_i32_4224
  let c8_i32_4228 : BitVec 32 := 8#32
  let v6738 : BitVec 32 := Scalar.muli v6733 c8_i32_4228
  let v6739 : BitVec 32 := v6738
  let c0_i32_4229 : BitVec 32 := 0#32
  ![v6734.toNat, v6739.toNat, 0]
def k0_off3845 (v6736 : BitVec 32) : Fin 2 → Nat :=
  let v6737 : BitVec 32 := v6736
  let c0_i32_4230 : BitVec 32 := 0#32
  ![v6737.toNat, 0]

def k0_chk957 (i : grid0.Coords) (v6736 : BitVec 32) : Prop :=
  (∀ (k0_h3 : k0_cond3 i = 1#1), 8 ∣ (k0_mult1913 v6736).toNat) ∧
  (∀ (k0_h3 : k0_cond3 i = 1#1), ∀ a, (k0_off3845 v6736) a + S8x128.size a ≤ S131072x128.size a)
theorem k0_mult1913_dvd : ∀ (i : grid0.Coords) (v6736 : BitVec 32) (k0_hw957 : k0_chk957 i v6736), ∀ (k0_h3 : k0_cond3 i = 1#1), 8 ∣ (k0_mult1913 v6736).toNat := fun i v6736 k0_hw957 k0_h3 => k0_hw957.1 k0_h3
theorem k0_off3845_inb : ∀ (i : grid0.Coords) (v6736 : BitVec 32) (k0_hw957 : k0_chk957 i v6736), ∀ (k0_h3 : k0_cond3 i = 1#1), ∀ a, (k0_off3845 v6736) a + S8x128.size a ≤ S131072x128.size a := fun i v6736 k0_hw957 k0_h3 => k0_hw957.2 k0_h3

def k0_off3846 (i : grid0.Coords) : Fin 3 → Nat :=
  let c0_4236 : Index := 0#32
  let c0_4237 : Index := 0#32
  let arg1 : BitVec 32 := BitVec.ofNat 32 (i 1).val
  let c2_i32_4231 : BitVec 32 := 2#32
  let v6745 : BitVec 32 := Scalar.muli arg1 c2_i32_4231
  let c1_i32_4232 : BitVec 32 := 1#32
  let v6746 : BitVec 32 := Scalar.addi v6745 c1_i32_4232
  let c256_i32_4233 : BitVec 32 := 256#32
  let v6747 : BitVec 32 := Scalar.muli v6746 c256_i32_4233
  let c188_i32_4234 : BitVec 32 := 188#32
  let v6748 : BitVec 32 := Scalar.addi v6747 c188_i32_4234
  let v6750 : Index := Scalar.indexCast v6748
  ![0, 0, v6750.toNat]
def k0_mult1915 (v6751 : BitVec 32) : BitVec 32 :=
  v6751

def k0_mult1916 (i : grid0.Coords) : BitVec 32 :=
  let arg1 : BitVec 32 := BitVec.ofNat 32 (i 1).val
  let c2_i32_4231 : BitVec 32 := 2#32
  let v6745 : BitVec 32 := Scalar.muli arg1 c2_i32_4231
  let c1_i32_4232 : BitVec 32 := 1#32
  let v6746 : BitVec 32 := Scalar.addi v6745 c1_i32_4232
  let c256_i32_4233 : BitVec 32 := 256#32
  let v6747 : BitVec 32 := Scalar.muli v6746 c256_i32_4233
  let c188_i32_4234 : BitVec 32 := 188#32
  let v6748 : BitVec 32 := Scalar.addi v6747 c188_i32_4234
  let c8_i32_4238 : BitVec 32 := 8#32
  let v6753 : BitVec 32 := Scalar.muli v6748 c8_i32_4238
  v6753
def k0_off3847 (i : grid0.Coords) : Fin 1 → Nat :=
  let c1_i32_4235 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6749 : BitVec 32 := Scalar.subi c1_i32_4235 v9
  ![v6749.toNat]
def k0_off3848 (i : grid0.Coords) : Fin 3 → Nat :=
  let c1_i32_4235 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6749 : BitVec 32 := Scalar.subi c1_i32_4235 v9
  let arg1 : BitVec 32 := BitVec.ofNat 32 (i 1).val
  let c2_i32_4231 : BitVec 32 := 2#32
  let v6745 : BitVec 32 := Scalar.muli arg1 c2_i32_4231
  let c1_i32_4232 : BitVec 32 := 1#32
  let v6746 : BitVec 32 := Scalar.addi v6745 c1_i32_4232
  let c256_i32_4233 : BitVec 32 := 256#32
  let v6747 : BitVec 32 := Scalar.muli v6746 c256_i32_4233
  let c188_i32_4234 : BitVec 32 := 188#32
  let v6748 : BitVec 32 := Scalar.addi v6747 c188_i32_4234
  let c8_i32_4238 : BitVec 32 := 8#32
  let v6753 : BitVec 32 := Scalar.muli v6748 c8_i32_4238
  let v6754 : BitVec 32 := v6753
  let c0_i32_4239 : BitVec 32 := 0#32
  ![v6749.toNat, v6754.toNat, 0]
def k0_off3849 (v6751 : BitVec 32) : Fin 2 → Nat :=
  let v6752 : BitVec 32 := v6751
  let c0_i32_4240 : BitVec 32 := 0#32
  ![v6752.toNat, 0]

def k0_chk958 (i : grid0.Coords) (v6751 : BitVec 32) : Prop :=
  (∀ (k0_h3 : k0_cond3 i = 1#1), 8 ∣ (k0_mult1915 v6751).toNat) ∧
  (∀ (k0_h3 : k0_cond3 i = 1#1), ∀ a, (k0_off3849 v6751) a + S8x128.size a ≤ S131072x128.size a)
theorem k0_mult1915_dvd : ∀ (i : grid0.Coords) (v6751 : BitVec 32) (k0_hw958 : k0_chk958 i v6751), ∀ (k0_h3 : k0_cond3 i = 1#1), 8 ∣ (k0_mult1915 v6751).toNat := fun i v6751 k0_hw958 k0_h3 => k0_hw958.1 k0_h3
theorem k0_off3849_inb : ∀ (i : grid0.Coords) (v6751 : BitVec 32) (k0_hw958 : k0_chk958 i v6751), ∀ (k0_h3 : k0_cond3 i = 1#1), ∀ a, (k0_off3849 v6751) a + S8x128.size a ≤ S131072x128.size a := fun i v6751 k0_hw958 k0_h3 => k0_hw958.2 k0_h3

def k0_off3850 (i : grid0.Coords) : Fin 3 → Nat :=
  let c0_4246 : Index := 0#32
  let c0_4247 : Index := 0#32
  let arg1 : BitVec 32 := BitVec.ofNat 32 (i 1).val
  let c2_i32_4241 : BitVec 32 := 2#32
  let v6760 : BitVec 32 := Scalar.muli arg1 c2_i32_4241
  let c1_i32_4242 : BitVec 32 := 1#32
  let v6761 : BitVec 32 := Scalar.addi v6760 c1_i32_4242
  let c256_i32_4243 : BitVec 32 := 256#32
  let v6762 : BitVec 32 := Scalar.muli v6761 c256_i32_4243
  let c189_i32_4244 : BitVec 32 := 189#32
  let v6763 : BitVec 32 := Scalar.addi v6762 c189_i32_4244
  let v6765 : Index := Scalar.indexCast v6763
  ![0, 0, v6765.toNat]
def k0_mult1917 (v6766 : BitVec 32) : BitVec 32 :=
  v6766

def k0_mult1918 (i : grid0.Coords) : BitVec 32 :=
  let arg1 : BitVec 32 := BitVec.ofNat 32 (i 1).val
  let c2_i32_4241 : BitVec 32 := 2#32
  let v6760 : BitVec 32 := Scalar.muli arg1 c2_i32_4241
  let c1_i32_4242 : BitVec 32 := 1#32
  let v6761 : BitVec 32 := Scalar.addi v6760 c1_i32_4242
  let c256_i32_4243 : BitVec 32 := 256#32
  let v6762 : BitVec 32 := Scalar.muli v6761 c256_i32_4243
  let c189_i32_4244 : BitVec 32 := 189#32
  let v6763 : BitVec 32 := Scalar.addi v6762 c189_i32_4244
  let c8_i32_4248 : BitVec 32 := 8#32
  let v6768 : BitVec 32 := Scalar.muli v6763 c8_i32_4248
  v6768
def k0_off3851 (i : grid0.Coords) : Fin 1 → Nat :=
  let c1_i32_4245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6764 : BitVec 32 := Scalar.subi c1_i32_4245 v9
  ![v6764.toNat]
def k0_off3852 (i : grid0.Coords) : Fin 3 → Nat :=
  let c1_i32_4245 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6764 : BitVec 32 := Scalar.subi c1_i32_4245 v9
  let arg1 : BitVec 32 := BitVec.ofNat 32 (i 1).val
  let c2_i32_4241 : BitVec 32 := 2#32
  let v6760 : BitVec 32 := Scalar.muli arg1 c2_i32_4241
  let c1_i32_4242 : BitVec 32 := 1#32
  let v6761 : BitVec 32 := Scalar.addi v6760 c1_i32_4242
  let c256_i32_4243 : BitVec 32 := 256#32
  let v6762 : BitVec 32 := Scalar.muli v6761 c256_i32_4243
  let c189_i32_4244 : BitVec 32 := 189#32
  let v6763 : BitVec 32 := Scalar.addi v6762 c189_i32_4244
  let c8_i32_4248 : BitVec 32 := 8#32
  let v6768 : BitVec 32 := Scalar.muli v6763 c8_i32_4248
  let v6769 : BitVec 32 := v6768
  let c0_i32_4249 : BitVec 32 := 0#32
  ![v6764.toNat, v6769.toNat, 0]
def k0_off3853 (v6766 : BitVec 32) : Fin 2 → Nat :=
  let v6767 : BitVec 32 := v6766
  let c0_i32_4250 : BitVec 32 := 0#32
  ![v6767.toNat, 0]

def k0_chk959 (i : grid0.Coords) (v6766 : BitVec 32) : Prop :=
  (∀ (k0_h3 : k0_cond3 i = 1#1), 8 ∣ (k0_mult1917 v6766).toNat) ∧
  (∀ (k0_h3 : k0_cond3 i = 1#1), ∀ a, (k0_off3853 v6766) a + S8x128.size a ≤ S131072x128.size a)
theorem k0_mult1917_dvd : ∀ (i : grid0.Coords) (v6766 : BitVec 32) (k0_hw959 : k0_chk959 i v6766), ∀ (k0_h3 : k0_cond3 i = 1#1), 8 ∣ (k0_mult1917 v6766).toNat := fun i v6766 k0_hw959 k0_h3 => k0_hw959.1 k0_h3
theorem k0_off3853_inb : ∀ (i : grid0.Coords) (v6766 : BitVec 32) (k0_hw959 : k0_chk959 i v6766), ∀ (k0_h3 : k0_cond3 i = 1#1), ∀ a, (k0_off3853 v6766) a + S8x128.size a ≤ S131072x128.size a := fun i v6766 k0_hw959 k0_h3 => k0_hw959.2 k0_h3

def k0_off3854 (i : grid0.Coords) : Fin 3 → Nat :=
  let c0_4256 : Index := 0#32
  let c0_4257 : Index := 0#32
  let arg1 : BitVec 32 := BitVec.ofNat 32 (i 1).val
  let c2_i32_4251 : BitVec 32 := 2#32
  let v6775 : BitVec 32 := Scalar.muli arg1 c2_i32_4251
  let c1_i32_4252 : BitVec 32 := 1#32
  let v6776 : BitVec 32 := Scalar.addi v6775 c1_i32_4252
  let c256_i32_4253 : BitVec 32 := 256#32
  let v6777 : BitVec 32 := Scalar.muli v6776 c256_i32_4253
  let c190_i32_4254 : BitVec 32 := 190#32
  let v6778 : BitVec 32 := Scalar.addi v6777 c190_i32_4254
  let v6780 : Index := Scalar.indexCast v6778
  ![0, 0, v6780.toNat]
def k0_mult1919 (v6781 : BitVec 32) : BitVec 32 :=
  v6781

def k0_mult1920 (i : grid0.Coords) : BitVec 32 :=
  let arg1 : BitVec 32 := BitVec.ofNat 32 (i 1).val
  let c2_i32_4251 : BitVec 32 := 2#32
  let v6775 : BitVec 32 := Scalar.muli arg1 c2_i32_4251
  let c1_i32_4252 : BitVec 32 := 1#32
  let v6776 : BitVec 32 := Scalar.addi v6775 c1_i32_4252
  let c256_i32_4253 : BitVec 32 := 256#32
  let v6777 : BitVec 32 := Scalar.muli v6776 c256_i32_4253
  let c190_i32_4254 : BitVec 32 := 190#32
  let v6778 : BitVec 32 := Scalar.addi v6777 c190_i32_4254
  let c8_i32_4258 : BitVec 32 := 8#32
  let v6783 : BitVec 32 := Scalar.muli v6778 c8_i32_4258
  v6783
def k0_off3855 (i : grid0.Coords) : Fin 1 → Nat :=
  let c1_i32_4255 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6779 : BitVec 32 := Scalar.subi c1_i32_4255 v9
  ![v6779.toNat]
def k0_off3856 (i : grid0.Coords) : Fin 3 → Nat :=
  let c1_i32_4255 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6779 : BitVec 32 := Scalar.subi c1_i32_4255 v9
  let arg1 : BitVec 32 := BitVec.ofNat 32 (i 1).val
  let c2_i32_4251 : BitVec 32 := 2#32
  let v6775 : BitVec 32 := Scalar.muli arg1 c2_i32_4251
  let c1_i32_4252 : BitVec 32 := 1#32
  let v6776 : BitVec 32 := Scalar.addi v6775 c1_i32_4252
  let c256_i32_4253 : BitVec 32 := 256#32
  let v6777 : BitVec 32 := Scalar.muli v6776 c256_i32_4253
  let c190_i32_4254 : BitVec 32 := 190#32
  let v6778 : BitVec 32 := Scalar.addi v6777 c190_i32_4254
  let c8_i32_4258 : BitVec 32 := 8#32
  let v6783 : BitVec 32 := Scalar.muli v6778 c8_i32_4258
  let v6784 : BitVec 32 := v6783
  let c0_i32_4259 : BitVec 32 := 0#32
  ![v6779.toNat, v6784.toNat, 0]
def k0_off3857 (v6781 : BitVec 32) : Fin 2 → Nat :=
  let v6782 : BitVec 32 := v6781
  let c0_i32_4260 : BitVec 32 := 0#32
  ![v6782.toNat, 0]

def k0_chk960 (i : grid0.Coords) (v6781 : BitVec 32) : Prop :=
  (∀ (k0_h3 : k0_cond3 i = 1#1), 8 ∣ (k0_mult1919 v6781).toNat) ∧
  (∀ (k0_h3 : k0_cond3 i = 1#1), ∀ a, (k0_off3857 v6781) a + S8x128.size a ≤ S131072x128.size a)
theorem k0_mult1919_dvd : ∀ (i : grid0.Coords) (v6781 : BitVec 32) (k0_hw960 : k0_chk960 i v6781), ∀ (k0_h3 : k0_cond3 i = 1#1), 8 ∣ (k0_mult1919 v6781).toNat := fun i v6781 k0_hw960 k0_h3 => k0_hw960.1 k0_h3
theorem k0_off3857_inb : ∀ (i : grid0.Coords) (v6781 : BitVec 32) (k0_hw960 : k0_chk960 i v6781), ∀ (k0_h3 : k0_cond3 i = 1#1), ∀ a, (k0_off3857 v6781) a + S8x128.size a ≤ S131072x128.size a := fun i v6781 k0_hw960 k0_h3 => k0_hw960.2 k0_h3

def k0_off3858 (i : grid0.Coords) : Fin 3 → Nat :=
  let c0_4266 : Index := 0#32
  let c0_4267 : Index := 0#32
  let arg1 : BitVec 32 := BitVec.ofNat 32 (i 1).val
  let c2_i32_4261 : BitVec 32 := 2#32
  let v6790 : BitVec 32 := Scalar.muli arg1 c2_i32_4261
  let c1_i32_4262 : BitVec 32 := 1#32
  let v6791 : BitVec 32 := Scalar.addi v6790 c1_i32_4262
  let c256_i32_4263 : BitVec 32 := 256#32
  let v6792 : BitVec 32 := Scalar.muli v6791 c256_i32_4263
  let c191_i32_4264 : BitVec 32 := 191#32
  let v6793 : BitVec 32 := Scalar.addi v6792 c191_i32_4264
  let v6795 : Index := Scalar.indexCast v6793
  ![0, 0, v6795.toNat]
def k0_mult1921 (v6796 : BitVec 32) : BitVec 32 :=
  v6796

def k0_mult1922 (i : grid0.Coords) : BitVec 32 :=
  let arg1 : BitVec 32 := BitVec.ofNat 32 (i 1).val
  let c2_i32_4261 : BitVec 32 := 2#32
  let v6790 : BitVec 32 := Scalar.muli arg1 c2_i32_4261
  let c1_i32_4262 : BitVec 32 := 1#32
  let v6791 : BitVec 32 := Scalar.addi v6790 c1_i32_4262
  let c256_i32_4263 : BitVec 32 := 256#32
  let v6792 : BitVec 32 := Scalar.muli v6791 c256_i32_4263
  let c191_i32_4264 : BitVec 32 := 191#32
  let v6793 : BitVec 32 := Scalar.addi v6792 c191_i32_4264
  let c8_i32_4268 : BitVec 32 := 8#32
  let v6798 : BitVec 32 := Scalar.muli v6793 c8_i32_4268
  v6798
def k0_off3859 (i : grid0.Coords) : Fin 1 → Nat :=
  let c1_i32_4265 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6794 : BitVec 32 := Scalar.subi c1_i32_4265 v9
  ![v6794.toNat]
def k0_off3860 (i : grid0.Coords) : Fin 3 → Nat :=
  let c1_i32_4265 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6794 : BitVec 32 := Scalar.subi c1_i32_4265 v9
  let arg1 : BitVec 32 := BitVec.ofNat 32 (i 1).val
  let c2_i32_4261 : BitVec 32 := 2#32
  let v6790 : BitVec 32 := Scalar.muli arg1 c2_i32_4261
  let c1_i32_4262 : BitVec 32 := 1#32
  let v6791 : BitVec 32 := Scalar.addi v6790 c1_i32_4262
  let c256_i32_4263 : BitVec 32 := 256#32
  let v6792 : BitVec 32 := Scalar.muli v6791 c256_i32_4263
  let c191_i32_4264 : BitVec 32 := 191#32
  let v6793 : BitVec 32 := Scalar.addi v6792 c191_i32_4264
  let c8_i32_4268 : BitVec 32 := 8#32
  let v6798 : BitVec 32 := Scalar.muli v6793 c8_i32_4268
  let v6799 : BitVec 32 := v6798
  let c0_i32_4269 : BitVec 32 := 0#32
  ![v6794.toNat, v6799.toNat, 0]
def k0_off3861 (v6796 : BitVec 32) : Fin 2 → Nat :=
  let v6797 : BitVec 32 := v6796
  let c0_i32_4270 : BitVec 32 := 0#32
  ![v6797.toNat, 0]

def k0_chk961 (i : grid0.Coords) (v6796 : BitVec 32) : Prop :=
  (∀ (k0_h3 : k0_cond3 i = 1#1), 8 ∣ (k0_mult1921 v6796).toNat) ∧
  (∀ (k0_h3 : k0_cond3 i = 1#1), ∀ a, (k0_off3861 v6796) a + S8x128.size a ≤ S131072x128.size a)
theorem k0_mult1921_dvd : ∀ (i : grid0.Coords) (v6796 : BitVec 32) (k0_hw961 : k0_chk961 i v6796), ∀ (k0_h3 : k0_cond3 i = 1#1), 8 ∣ (k0_mult1921 v6796).toNat := fun i v6796 k0_hw961 k0_h3 => k0_hw961.1 k0_h3
theorem k0_off3861_inb : ∀ (i : grid0.Coords) (v6796 : BitVec 32) (k0_hw961 : k0_chk961 i v6796), ∀ (k0_h3 : k0_cond3 i = 1#1), ∀ a, (k0_off3861 v6796) a + S8x128.size a ≤ S131072x128.size a := fun i v6796 k0_hw961 k0_h3 => k0_hw961.2 k0_h3

def k0_off3862 (i : grid0.Coords) : Fin 3 → Nat :=
  let c0_4276 : Index := 0#32
  let c0_4277 : Index := 0#32
  let arg1 : BitVec 32 := BitVec.ofNat 32 (i 1).val
  let c2_i32_4271 : BitVec 32 := 2#32
  let v6805 : BitVec 32 := Scalar.muli arg1 c2_i32_4271
  let c1_i32_4272 : BitVec 32 := 1#32
  let v6806 : BitVec 32 := Scalar.addi v6805 c1_i32_4272
  let c256_i32_4273 : BitVec 32 := 256#32
  let v6807 : BitVec 32 := Scalar.muli v6806 c256_i32_4273
  let c192_i32_4274 : BitVec 32 := 192#32
  let v6808 : BitVec 32 := Scalar.addi v6807 c192_i32_4274
  let v6810 : Index := Scalar.indexCast v6808
  ![0, 0, v6810.toNat]
def k0_mult1923 (v6811 : BitVec 32) : BitVec 32 :=
  v6811

def k0_mult1924 (i : grid0.Coords) : BitVec 32 :=
  let arg1 : BitVec 32 := BitVec.ofNat 32 (i 1).val
  let c2_i32_4271 : BitVec 32 := 2#32
  let v6805 : BitVec 32 := Scalar.muli arg1 c2_i32_4271
  let c1_i32_4272 : BitVec 32 := 1#32
  let v6806 : BitVec 32 := Scalar.addi v6805 c1_i32_4272
  let c256_i32_4273 : BitVec 32 := 256#32
  let v6807 : BitVec 32 := Scalar.muli v6806 c256_i32_4273
  let c192_i32_4274 : BitVec 32 := 192#32
  let v6808 : BitVec 32 := Scalar.addi v6807 c192_i32_4274
  let c8_i32_4278 : BitVec 32 := 8#32
  let v6813 : BitVec 32 := Scalar.muli v6808 c8_i32_4278
  v6813
def k0_off3863 (i : grid0.Coords) : Fin 1 → Nat :=
  let c1_i32_4275 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6809 : BitVec 32 := Scalar.subi c1_i32_4275 v9
  ![v6809.toNat]
def k0_off3864 (i : grid0.Coords) : Fin 3 → Nat :=
  let c1_i32_4275 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6809 : BitVec 32 := Scalar.subi c1_i32_4275 v9
  let arg1 : BitVec 32 := BitVec.ofNat 32 (i 1).val
  let c2_i32_4271 : BitVec 32 := 2#32
  let v6805 : BitVec 32 := Scalar.muli arg1 c2_i32_4271
  let c1_i32_4272 : BitVec 32 := 1#32
  let v6806 : BitVec 32 := Scalar.addi v6805 c1_i32_4272
  let c256_i32_4273 : BitVec 32 := 256#32
  let v6807 : BitVec 32 := Scalar.muli v6806 c256_i32_4273
  let c192_i32_4274 : BitVec 32 := 192#32
  let v6808 : BitVec 32 := Scalar.addi v6807 c192_i32_4274
  let c8_i32_4278 : BitVec 32 := 8#32
  let v6813 : BitVec 32 := Scalar.muli v6808 c8_i32_4278
  let v6814 : BitVec 32 := v6813
  let c0_i32_4279 : BitVec 32 := 0#32
  ![v6809.toNat, v6814.toNat, 0]
def k0_off3865 (v6811 : BitVec 32) : Fin 2 → Nat :=
  let v6812 : BitVec 32 := v6811
  let c0_i32_4280 : BitVec 32 := 0#32
  ![v6812.toNat, 0]

def k0_chk962 (i : grid0.Coords) (v6811 : BitVec 32) : Prop :=
  (∀ (k0_h3 : k0_cond3 i = 1#1), 8 ∣ (k0_mult1923 v6811).toNat) ∧
  (∀ (k0_h3 : k0_cond3 i = 1#1), ∀ a, (k0_off3865 v6811) a + S8x128.size a ≤ S131072x128.size a)
theorem k0_mult1923_dvd : ∀ (i : grid0.Coords) (v6811 : BitVec 32) (k0_hw962 : k0_chk962 i v6811), ∀ (k0_h3 : k0_cond3 i = 1#1), 8 ∣ (k0_mult1923 v6811).toNat := fun i v6811 k0_hw962 k0_h3 => k0_hw962.1 k0_h3
theorem k0_off3865_inb : ∀ (i : grid0.Coords) (v6811 : BitVec 32) (k0_hw962 : k0_chk962 i v6811), ∀ (k0_h3 : k0_cond3 i = 1#1), ∀ a, (k0_off3865 v6811) a + S8x128.size a ≤ S131072x128.size a := fun i v6811 k0_hw962 k0_h3 => k0_hw962.2 k0_h3

def k0_off3866 (i : grid0.Coords) : Fin 3 → Nat :=
  let c0_4286 : Index := 0#32
  let c0_4287 : Index := 0#32
  let arg1 : BitVec 32 := BitVec.ofNat 32 (i 1).val
  let c2_i32_4281 : BitVec 32 := 2#32
  let v6820 : BitVec 32 := Scalar.muli arg1 c2_i32_4281
  let c1_i32_4282 : BitVec 32 := 1#32
  let v6821 : BitVec 32 := Scalar.addi v6820 c1_i32_4282
  let c256_i32_4283 : BitVec 32 := 256#32
  let v6822 : BitVec 32 := Scalar.muli v6821 c256_i32_4283
  let c193_i32_4284 : BitVec 32 := 193#32
  let v6823 : BitVec 32 := Scalar.addi v6822 c193_i32_4284
  let v6825 : Index := Scalar.indexCast v6823
  ![0, 0, v6825.toNat]
def k0_mult1925 (v6826 : BitVec 32) : BitVec 32 :=
  v6826

def k0_mult1926 (i : grid0.Coords) : BitVec 32 :=
  let arg1 : BitVec 32 := BitVec.ofNat 32 (i 1).val
  let c2_i32_4281 : BitVec 32 := 2#32
  let v6820 : BitVec 32 := Scalar.muli arg1 c2_i32_4281
  let c1_i32_4282 : BitVec 32 := 1#32
  let v6821 : BitVec 32 := Scalar.addi v6820 c1_i32_4282
  let c256_i32_4283 : BitVec 32 := 256#32
  let v6822 : BitVec 32 := Scalar.muli v6821 c256_i32_4283
  let c193_i32_4284 : BitVec 32 := 193#32
  let v6823 : BitVec 32 := Scalar.addi v6822 c193_i32_4284
  let c8_i32_4288 : BitVec 32 := 8#32
  let v6828 : BitVec 32 := Scalar.muli v6823 c8_i32_4288
  v6828
def k0_off3867 (i : grid0.Coords) : Fin 1 → Nat :=
  let c1_i32_4285 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6824 : BitVec 32 := Scalar.subi c1_i32_4285 v9
  ![v6824.toNat]
def k0_off3868 (i : grid0.Coords) : Fin 3 → Nat :=
  let c1_i32_4285 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6824 : BitVec 32 := Scalar.subi c1_i32_4285 v9
  let arg1 : BitVec 32 := BitVec.ofNat 32 (i 1).val
  let c2_i32_4281 : BitVec 32 := 2#32
  let v6820 : BitVec 32 := Scalar.muli arg1 c2_i32_4281
  let c1_i32_4282 : BitVec 32 := 1#32
  let v6821 : BitVec 32 := Scalar.addi v6820 c1_i32_4282
  let c256_i32_4283 : BitVec 32 := 256#32
  let v6822 : BitVec 32 := Scalar.muli v6821 c256_i32_4283
  let c193_i32_4284 : BitVec 32 := 193#32
  let v6823 : BitVec 32 := Scalar.addi v6822 c193_i32_4284
  let c8_i32_4288 : BitVec 32 := 8#32
  let v6828 : BitVec 32 := Scalar.muli v6823 c8_i32_4288
  let v6829 : BitVec 32 := v6828
  let c0_i32_4289 : BitVec 32 := 0#32
  ![v6824.toNat, v6829.toNat, 0]
def k0_off3869 (v6826 : BitVec 32) : Fin 2 → Nat :=
  let v6827 : BitVec 32 := v6826
  let c0_i32_4290 : BitVec 32 := 0#32
  ![v6827.toNat, 0]

def k0_chk963 (i : grid0.Coords) (v6826 : BitVec 32) : Prop :=
  (∀ (k0_h3 : k0_cond3 i = 1#1), 8 ∣ (k0_mult1925 v6826).toNat) ∧
  (∀ (k0_h3 : k0_cond3 i = 1#1), ∀ a, (k0_off3869 v6826) a + S8x128.size a ≤ S131072x128.size a)
theorem k0_mult1925_dvd : ∀ (i : grid0.Coords) (v6826 : BitVec 32) (k0_hw963 : k0_chk963 i v6826), ∀ (k0_h3 : k0_cond3 i = 1#1), 8 ∣ (k0_mult1925 v6826).toNat := fun i v6826 k0_hw963 k0_h3 => k0_hw963.1 k0_h3
theorem k0_off3869_inb : ∀ (i : grid0.Coords) (v6826 : BitVec 32) (k0_hw963 : k0_chk963 i v6826), ∀ (k0_h3 : k0_cond3 i = 1#1), ∀ a, (k0_off3869 v6826) a + S8x128.size a ≤ S131072x128.size a := fun i v6826 k0_hw963 k0_h3 => k0_hw963.2 k0_h3

def k0_off3870 (i : grid0.Coords) : Fin 3 → Nat :=
  let c0_4296 : Index := 0#32
  let c0_4297 : Index := 0#32
  let arg1 : BitVec 32 := BitVec.ofNat 32 (i 1).val
  let c2_i32_4291 : BitVec 32 := 2#32
  let v6835 : BitVec 32 := Scalar.muli arg1 c2_i32_4291
  let c1_i32_4292 : BitVec 32 := 1#32
  let v6836 : BitVec 32 := Scalar.addi v6835 c1_i32_4292
  let c256_i32_4293 : BitVec 32 := 256#32
  let v6837 : BitVec 32 := Scalar.muli v6836 c256_i32_4293
  let c194_i32_4294 : BitVec 32 := 194#32
  let v6838 : BitVec 32 := Scalar.addi v6837 c194_i32_4294
  let v6840 : Index := Scalar.indexCast v6838
  ![0, 0, v6840.toNat]
def k0_mult1927 (v6841 : BitVec 32) : BitVec 32 :=
  v6841

def k0_mult1928 (i : grid0.Coords) : BitVec 32 :=
  let arg1 : BitVec 32 := BitVec.ofNat 32 (i 1).val
  let c2_i32_4291 : BitVec 32 := 2#32
  let v6835 : BitVec 32 := Scalar.muli arg1 c2_i32_4291
  let c1_i32_4292 : BitVec 32 := 1#32
  let v6836 : BitVec 32 := Scalar.addi v6835 c1_i32_4292
  let c256_i32_4293 : BitVec 32 := 256#32
  let v6837 : BitVec 32 := Scalar.muli v6836 c256_i32_4293
  let c194_i32_4294 : BitVec 32 := 194#32
  let v6838 : BitVec 32 := Scalar.addi v6837 c194_i32_4294
  let c8_i32_4298 : BitVec 32 := 8#32
  let v6843 : BitVec 32 := Scalar.muli v6838 c8_i32_4298
  v6843
def k0_off3871 (i : grid0.Coords) : Fin 1 → Nat :=
  let c1_i32_4295 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6839 : BitVec 32 := Scalar.subi c1_i32_4295 v9
  ![v6839.toNat]
def k0_off3872 (i : grid0.Coords) : Fin 3 → Nat :=
  let c1_i32_4295 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6839 : BitVec 32 := Scalar.subi c1_i32_4295 v9
  let arg1 : BitVec 32 := BitVec.ofNat 32 (i 1).val
  let c2_i32_4291 : BitVec 32 := 2#32
  let v6835 : BitVec 32 := Scalar.muli arg1 c2_i32_4291
  let c1_i32_4292 : BitVec 32 := 1#32
  let v6836 : BitVec 32 := Scalar.addi v6835 c1_i32_4292
  let c256_i32_4293 : BitVec 32 := 256#32
  let v6837 : BitVec 32 := Scalar.muli v6836 c256_i32_4293
  let c194_i32_4294 : BitVec 32 := 194#32
  let v6838 : BitVec 32 := Scalar.addi v6837 c194_i32_4294
  let c8_i32_4298 : BitVec 32 := 8#32
  let v6843 : BitVec 32 := Scalar.muli v6838 c8_i32_4298
  let v6844 : BitVec 32 := v6843
  let c0_i32_4299 : BitVec 32 := 0#32
  ![v6839.toNat, v6844.toNat, 0]
def k0_off3873 (v6841 : BitVec 32) : Fin 2 → Nat :=
  let v6842 : BitVec 32 := v6841
  let c0_i32_4300 : BitVec 32 := 0#32
  ![v6842.toNat, 0]

def k0_chk964 (i : grid0.Coords) (v6841 : BitVec 32) : Prop :=
  (∀ (k0_h3 : k0_cond3 i = 1#1), 8 ∣ (k0_mult1927 v6841).toNat) ∧
  (∀ (k0_h3 : k0_cond3 i = 1#1), ∀ a, (k0_off3873 v6841) a + S8x128.size a ≤ S131072x128.size a)
theorem k0_mult1927_dvd : ∀ (i : grid0.Coords) (v6841 : BitVec 32) (k0_hw964 : k0_chk964 i v6841), ∀ (k0_h3 : k0_cond3 i = 1#1), 8 ∣ (k0_mult1927 v6841).toNat := fun i v6841 k0_hw964 k0_h3 => k0_hw964.1 k0_h3
theorem k0_off3873_inb : ∀ (i : grid0.Coords) (v6841 : BitVec 32) (k0_hw964 : k0_chk964 i v6841), ∀ (k0_h3 : k0_cond3 i = 1#1), ∀ a, (k0_off3873 v6841) a + S8x128.size a ≤ S131072x128.size a := fun i v6841 k0_hw964 k0_h3 => k0_hw964.2 k0_h3

def k0_off3874 (i : grid0.Coords) : Fin 3 → Nat :=
  let c0_4306 : Index := 0#32
  let c0_4307 : Index := 0#32
  let arg1 : BitVec 32 := BitVec.ofNat 32 (i 1).val
  let c2_i32_4301 : BitVec 32 := 2#32
  let v6850 : BitVec 32 := Scalar.muli arg1 c2_i32_4301
  let c1_i32_4302 : BitVec 32 := 1#32
  let v6851 : BitVec 32 := Scalar.addi v6850 c1_i32_4302
  let c256_i32_4303 : BitVec 32 := 256#32
  let v6852 : BitVec 32 := Scalar.muli v6851 c256_i32_4303
  let c195_i32_4304 : BitVec 32 := 195#32
  let v6853 : BitVec 32 := Scalar.addi v6852 c195_i32_4304
  let v6855 : Index := Scalar.indexCast v6853
  ![0, 0, v6855.toNat]
def k0_mult1929 (v6856 : BitVec 32) : BitVec 32 :=
  v6856

def k0_mult1930 (i : grid0.Coords) : BitVec 32 :=
  let arg1 : BitVec 32 := BitVec.ofNat 32 (i 1).val
  let c2_i32_4301 : BitVec 32 := 2#32
  let v6850 : BitVec 32 := Scalar.muli arg1 c2_i32_4301
  let c1_i32_4302 : BitVec 32 := 1#32
  let v6851 : BitVec 32 := Scalar.addi v6850 c1_i32_4302
  let c256_i32_4303 : BitVec 32 := 256#32
  let v6852 : BitVec 32 := Scalar.muli v6851 c256_i32_4303
  let c195_i32_4304 : BitVec 32 := 195#32
  let v6853 : BitVec 32 := Scalar.addi v6852 c195_i32_4304
  let c8_i32_4308 : BitVec 32 := 8#32
  let v6858 : BitVec 32 := Scalar.muli v6853 c8_i32_4308
  v6858
def k0_off3875 (i : grid0.Coords) : Fin 1 → Nat :=
  let c1_i32_4305 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6854 : BitVec 32 := Scalar.subi c1_i32_4305 v9
  ![v6854.toNat]
def k0_off3876 (i : grid0.Coords) : Fin 3 → Nat :=
  let c1_i32_4305 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6854 : BitVec 32 := Scalar.subi c1_i32_4305 v9
  let arg1 : BitVec 32 := BitVec.ofNat 32 (i 1).val
  let c2_i32_4301 : BitVec 32 := 2#32
  let v6850 : BitVec 32 := Scalar.muli arg1 c2_i32_4301
  let c1_i32_4302 : BitVec 32 := 1#32
  let v6851 : BitVec 32 := Scalar.addi v6850 c1_i32_4302
  let c256_i32_4303 : BitVec 32 := 256#32
  let v6852 : BitVec 32 := Scalar.muli v6851 c256_i32_4303
  let c195_i32_4304 : BitVec 32 := 195#32
  let v6853 : BitVec 32 := Scalar.addi v6852 c195_i32_4304
  let c8_i32_4308 : BitVec 32 := 8#32
  let v6858 : BitVec 32 := Scalar.muli v6853 c8_i32_4308
  let v6859 : BitVec 32 := v6858
  let c0_i32_4309 : BitVec 32 := 0#32
  ![v6854.toNat, v6859.toNat, 0]
def k0_off3877 (v6856 : BitVec 32) : Fin 2 → Nat :=
  let v6857 : BitVec 32 := v6856
  let c0_i32_4310 : BitVec 32 := 0#32
  ![v6857.toNat, 0]

def k0_chk965 (i : grid0.Coords) (v6856 : BitVec 32) : Prop :=
  (∀ (k0_h3 : k0_cond3 i = 1#1), 8 ∣ (k0_mult1929 v6856).toNat) ∧
  (∀ (k0_h3 : k0_cond3 i = 1#1), ∀ a, (k0_off3877 v6856) a + S8x128.size a ≤ S131072x128.size a)
theorem k0_mult1929_dvd : ∀ (i : grid0.Coords) (v6856 : BitVec 32) (k0_hw965 : k0_chk965 i v6856), ∀ (k0_h3 : k0_cond3 i = 1#1), 8 ∣ (k0_mult1929 v6856).toNat := fun i v6856 k0_hw965 k0_h3 => k0_hw965.1 k0_h3
theorem k0_off3877_inb : ∀ (i : grid0.Coords) (v6856 : BitVec 32) (k0_hw965 : k0_chk965 i v6856), ∀ (k0_h3 : k0_cond3 i = 1#1), ∀ a, (k0_off3877 v6856) a + S8x128.size a ≤ S131072x128.size a := fun i v6856 k0_hw965 k0_h3 => k0_hw965.2 k0_h3

def k0_off3878 (i : grid0.Coords) : Fin 3 → Nat :=
  let c0_4316 : Index := 0#32
  let c0_4317 : Index := 0#32
  let arg1 : BitVec 32 := BitVec.ofNat 32 (i 1).val
  let c2_i32_4311 : BitVec 32 := 2#32
  let v6865 : BitVec 32 := Scalar.muli arg1 c2_i32_4311
  let c1_i32_4312 : BitVec 32 := 1#32
  let v6866 : BitVec 32 := Scalar.addi v6865 c1_i32_4312
  let c256_i32_4313 : BitVec 32 := 256#32
  let v6867 : BitVec 32 := Scalar.muli v6866 c256_i32_4313
  let c196_i32_4314 : BitVec 32 := 196#32
  let v6868 : BitVec 32 := Scalar.addi v6867 c196_i32_4314
  let v6870 : Index := Scalar.indexCast v6868
  ![0, 0, v6870.toNat]
def k0_mult1931 (v6871 : BitVec 32) : BitVec 32 :=
  v6871

def k0_mult1932 (i : grid0.Coords) : BitVec 32 :=
  let arg1 : BitVec 32 := BitVec.ofNat 32 (i 1).val
  let c2_i32_4311 : BitVec 32 := 2#32
  let v6865 : BitVec 32 := Scalar.muli arg1 c2_i32_4311
  let c1_i32_4312 : BitVec 32 := 1#32
  let v6866 : BitVec 32 := Scalar.addi v6865 c1_i32_4312
  let c256_i32_4313 : BitVec 32 := 256#32
  let v6867 : BitVec 32 := Scalar.muli v6866 c256_i32_4313
  let c196_i32_4314 : BitVec 32 := 196#32
  let v6868 : BitVec 32 := Scalar.addi v6867 c196_i32_4314
  let c8_i32_4318 : BitVec 32 := 8#32
  let v6873 : BitVec 32 := Scalar.muli v6868 c8_i32_4318
  v6873
def k0_off3879 (i : grid0.Coords) : Fin 1 → Nat :=
  let c1_i32_4315 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6869 : BitVec 32 := Scalar.subi c1_i32_4315 v9
  ![v6869.toNat]
def k0_off3880 (i : grid0.Coords) : Fin 3 → Nat :=
  let c1_i32_4315 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6869 : BitVec 32 := Scalar.subi c1_i32_4315 v9
  let arg1 : BitVec 32 := BitVec.ofNat 32 (i 1).val
  let c2_i32_4311 : BitVec 32 := 2#32
  let v6865 : BitVec 32 := Scalar.muli arg1 c2_i32_4311
  let c1_i32_4312 : BitVec 32 := 1#32
  let v6866 : BitVec 32 := Scalar.addi v6865 c1_i32_4312
  let c256_i32_4313 : BitVec 32 := 256#32
  let v6867 : BitVec 32 := Scalar.muli v6866 c256_i32_4313
  let c196_i32_4314 : BitVec 32 := 196#32
  let v6868 : BitVec 32 := Scalar.addi v6867 c196_i32_4314
  let c8_i32_4318 : BitVec 32 := 8#32
  let v6873 : BitVec 32 := Scalar.muli v6868 c8_i32_4318
  let v6874 : BitVec 32 := v6873
  let c0_i32_4319 : BitVec 32 := 0#32
  ![v6869.toNat, v6874.toNat, 0]
def k0_off3881 (v6871 : BitVec 32) : Fin 2 → Nat :=
  let v6872 : BitVec 32 := v6871
  let c0_i32_4320 : BitVec 32 := 0#32
  ![v6872.toNat, 0]

def k0_chk966 (i : grid0.Coords) (v6871 : BitVec 32) : Prop :=
  (∀ (k0_h3 : k0_cond3 i = 1#1), 8 ∣ (k0_mult1931 v6871).toNat) ∧
  (∀ (k0_h3 : k0_cond3 i = 1#1), ∀ a, (k0_off3881 v6871) a + S8x128.size a ≤ S131072x128.size a)
theorem k0_mult1931_dvd : ∀ (i : grid0.Coords) (v6871 : BitVec 32) (k0_hw966 : k0_chk966 i v6871), ∀ (k0_h3 : k0_cond3 i = 1#1), 8 ∣ (k0_mult1931 v6871).toNat := fun i v6871 k0_hw966 k0_h3 => k0_hw966.1 k0_h3
theorem k0_off3881_inb : ∀ (i : grid0.Coords) (v6871 : BitVec 32) (k0_hw966 : k0_chk966 i v6871), ∀ (k0_h3 : k0_cond3 i = 1#1), ∀ a, (k0_off3881 v6871) a + S8x128.size a ≤ S131072x128.size a := fun i v6871 k0_hw966 k0_h3 => k0_hw966.2 k0_h3

def k0_off3882 (i : grid0.Coords) : Fin 3 → Nat :=
  let c0_4326 : Index := 0#32
  let c0_4327 : Index := 0#32
  let arg1 : BitVec 32 := BitVec.ofNat 32 (i 1).val
  let c2_i32_4321 : BitVec 32 := 2#32
  let v6880 : BitVec 32 := Scalar.muli arg1 c2_i32_4321
  let c1_i32_4322 : BitVec 32 := 1#32
  let v6881 : BitVec 32 := Scalar.addi v6880 c1_i32_4322
  let c256_i32_4323 : BitVec 32 := 256#32
  let v6882 : BitVec 32 := Scalar.muli v6881 c256_i32_4323
  let c197_i32_4324 : BitVec 32 := 197#32
  let v6883 : BitVec 32 := Scalar.addi v6882 c197_i32_4324
  let v6885 : Index := Scalar.indexCast v6883
  ![0, 0, v6885.toNat]
def k0_mult1933 (v6886 : BitVec 32) : BitVec 32 :=
  v6886

def k0_mult1934 (i : grid0.Coords) : BitVec 32 :=
  let arg1 : BitVec 32 := BitVec.ofNat 32 (i 1).val
  let c2_i32_4321 : BitVec 32 := 2#32
  let v6880 : BitVec 32 := Scalar.muli arg1 c2_i32_4321
  let c1_i32_4322 : BitVec 32 := 1#32
  let v6881 : BitVec 32 := Scalar.addi v6880 c1_i32_4322
  let c256_i32_4323 : BitVec 32 := 256#32
  let v6882 : BitVec 32 := Scalar.muli v6881 c256_i32_4323
  let c197_i32_4324 : BitVec 32 := 197#32
  let v6883 : BitVec 32 := Scalar.addi v6882 c197_i32_4324
  let c8_i32_4328 : BitVec 32 := 8#32
  let v6888 : BitVec 32 := Scalar.muli v6883 c8_i32_4328
  v6888
def k0_off3883 (i : grid0.Coords) : Fin 1 → Nat :=
  let c1_i32_4325 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6884 : BitVec 32 := Scalar.subi c1_i32_4325 v9
  ![v6884.toNat]
def k0_off3884 (i : grid0.Coords) : Fin 3 → Nat :=
  let c1_i32_4325 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6884 : BitVec 32 := Scalar.subi c1_i32_4325 v9
  let arg1 : BitVec 32 := BitVec.ofNat 32 (i 1).val
  let c2_i32_4321 : BitVec 32 := 2#32
  let v6880 : BitVec 32 := Scalar.muli arg1 c2_i32_4321
  let c1_i32_4322 : BitVec 32 := 1#32
  let v6881 : BitVec 32 := Scalar.addi v6880 c1_i32_4322
  let c256_i32_4323 : BitVec 32 := 256#32
  let v6882 : BitVec 32 := Scalar.muli v6881 c256_i32_4323
  let c197_i32_4324 : BitVec 32 := 197#32
  let v6883 : BitVec 32 := Scalar.addi v6882 c197_i32_4324
  let c8_i32_4328 : BitVec 32 := 8#32
  let v6888 : BitVec 32 := Scalar.muli v6883 c8_i32_4328
  let v6889 : BitVec 32 := v6888
  let c0_i32_4329 : BitVec 32 := 0#32
  ![v6884.toNat, v6889.toNat, 0]
def k0_off3885 (v6886 : BitVec 32) : Fin 2 → Nat :=
  let v6887 : BitVec 32 := v6886
  let c0_i32_4330 : BitVec 32 := 0#32
  ![v6887.toNat, 0]

def k0_chk967 (i : grid0.Coords) (v6886 : BitVec 32) : Prop :=
  (∀ (k0_h3 : k0_cond3 i = 1#1), 8 ∣ (k0_mult1933 v6886).toNat) ∧
  (∀ (k0_h3 : k0_cond3 i = 1#1), ∀ a, (k0_off3885 v6886) a + S8x128.size a ≤ S131072x128.size a)
theorem k0_mult1933_dvd : ∀ (i : grid0.Coords) (v6886 : BitVec 32) (k0_hw967 : k0_chk967 i v6886), ∀ (k0_h3 : k0_cond3 i = 1#1), 8 ∣ (k0_mult1933 v6886).toNat := fun i v6886 k0_hw967 k0_h3 => k0_hw967.1 k0_h3
theorem k0_off3885_inb : ∀ (i : grid0.Coords) (v6886 : BitVec 32) (k0_hw967 : k0_chk967 i v6886), ∀ (k0_h3 : k0_cond3 i = 1#1), ∀ a, (k0_off3885 v6886) a + S8x128.size a ≤ S131072x128.size a := fun i v6886 k0_hw967 k0_h3 => k0_hw967.2 k0_h3

def k0_off3886 (i : grid0.Coords) : Fin 3 → Nat :=
  let c0_4336 : Index := 0#32
  let c0_4337 : Index := 0#32
  let arg1 : BitVec 32 := BitVec.ofNat 32 (i 1).val
  let c2_i32_4331 : BitVec 32 := 2#32
  let v6895 : BitVec 32 := Scalar.muli arg1 c2_i32_4331
  let c1_i32_4332 : BitVec 32 := 1#32
  let v6896 : BitVec 32 := Scalar.addi v6895 c1_i32_4332
  let c256_i32_4333 : BitVec 32 := 256#32
  let v6897 : BitVec 32 := Scalar.muli v6896 c256_i32_4333
  let c198_i32_4334 : BitVec 32 := 198#32
  let v6898 : BitVec 32 := Scalar.addi v6897 c198_i32_4334
  let v6900 : Index := Scalar.indexCast v6898
  ![0, 0, v6900.toNat]
def k0_mult1935 (v6901 : BitVec 32) : BitVec 32 :=
  v6901

def k0_mult1936 (i : grid0.Coords) : BitVec 32 :=
  let arg1 : BitVec 32 := BitVec.ofNat 32 (i 1).val
  let c2_i32_4331 : BitVec 32 := 2#32
  let v6895 : BitVec 32 := Scalar.muli arg1 c2_i32_4331
  let c1_i32_4332 : BitVec 32 := 1#32
  let v6896 : BitVec 32 := Scalar.addi v6895 c1_i32_4332
  let c256_i32_4333 : BitVec 32 := 256#32
  let v6897 : BitVec 32 := Scalar.muli v6896 c256_i32_4333
  let c198_i32_4334 : BitVec 32 := 198#32
  let v6898 : BitVec 32 := Scalar.addi v6897 c198_i32_4334
  let c8_i32_4338 : BitVec 32 := 8#32
  let v6903 : BitVec 32 := Scalar.muli v6898 c8_i32_4338
  v6903
def k0_off3887 (i : grid0.Coords) : Fin 1 → Nat :=
  let c1_i32_4335 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6899 : BitVec 32 := Scalar.subi c1_i32_4335 v9
  ![v6899.toNat]
def k0_off3888 (i : grid0.Coords) : Fin 3 → Nat :=
  let c1_i32_4335 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6899 : BitVec 32 := Scalar.subi c1_i32_4335 v9
  let arg1 : BitVec 32 := BitVec.ofNat 32 (i 1).val
  let c2_i32_4331 : BitVec 32 := 2#32
  let v6895 : BitVec 32 := Scalar.muli arg1 c2_i32_4331
  let c1_i32_4332 : BitVec 32 := 1#32
  let v6896 : BitVec 32 := Scalar.addi v6895 c1_i32_4332
  let c256_i32_4333 : BitVec 32 := 256#32
  let v6897 : BitVec 32 := Scalar.muli v6896 c256_i32_4333
  let c198_i32_4334 : BitVec 32 := 198#32
  let v6898 : BitVec 32 := Scalar.addi v6897 c198_i32_4334
  let c8_i32_4338 : BitVec 32 := 8#32
  let v6903 : BitVec 32 := Scalar.muli v6898 c8_i32_4338
  let v6904 : BitVec 32 := v6903
  let c0_i32_4339 : BitVec 32 := 0#32
  ![v6899.toNat, v6904.toNat, 0]
def k0_off3889 (v6901 : BitVec 32) : Fin 2 → Nat :=
  let v6902 : BitVec 32 := v6901
  let c0_i32_4340 : BitVec 32 := 0#32
  ![v6902.toNat, 0]

def k0_chk968 (i : grid0.Coords) (v6901 : BitVec 32) : Prop :=
  (∀ (k0_h3 : k0_cond3 i = 1#1), 8 ∣ (k0_mult1935 v6901).toNat) ∧
  (∀ (k0_h3 : k0_cond3 i = 1#1), ∀ a, (k0_off3889 v6901) a + S8x128.size a ≤ S131072x128.size a)
theorem k0_mult1935_dvd : ∀ (i : grid0.Coords) (v6901 : BitVec 32) (k0_hw968 : k0_chk968 i v6901), ∀ (k0_h3 : k0_cond3 i = 1#1), 8 ∣ (k0_mult1935 v6901).toNat := fun i v6901 k0_hw968 k0_h3 => k0_hw968.1 k0_h3
theorem k0_off3889_inb : ∀ (i : grid0.Coords) (v6901 : BitVec 32) (k0_hw968 : k0_chk968 i v6901), ∀ (k0_h3 : k0_cond3 i = 1#1), ∀ a, (k0_off3889 v6901) a + S8x128.size a ≤ S131072x128.size a := fun i v6901 k0_hw968 k0_h3 => k0_hw968.2 k0_h3

def k0_off3890 (i : grid0.Coords) : Fin 3 → Nat :=
  let c0_4346 : Index := 0#32
  let c0_4347 : Index := 0#32
  let arg1 : BitVec 32 := BitVec.ofNat 32 (i 1).val
  let c2_i32_4341 : BitVec 32 := 2#32
  let v6910 : BitVec 32 := Scalar.muli arg1 c2_i32_4341
  let c1_i32_4342 : BitVec 32 := 1#32
  let v6911 : BitVec 32 := Scalar.addi v6910 c1_i32_4342
  let c256_i32_4343 : BitVec 32 := 256#32
  let v6912 : BitVec 32 := Scalar.muli v6911 c256_i32_4343
  let c199_i32_4344 : BitVec 32 := 199#32
  let v6913 : BitVec 32 := Scalar.addi v6912 c199_i32_4344
  let v6915 : Index := Scalar.indexCast v6913
  ![0, 0, v6915.toNat]
def k0_mult1937 (v6916 : BitVec 32) : BitVec 32 :=
  v6916

def k0_mult1938 (i : grid0.Coords) : BitVec 32 :=
  let arg1 : BitVec 32 := BitVec.ofNat 32 (i 1).val
  let c2_i32_4341 : BitVec 32 := 2#32
  let v6910 : BitVec 32 := Scalar.muli arg1 c2_i32_4341
  let c1_i32_4342 : BitVec 32 := 1#32
  let v6911 : BitVec 32 := Scalar.addi v6910 c1_i32_4342
  let c256_i32_4343 : BitVec 32 := 256#32
  let v6912 : BitVec 32 := Scalar.muli v6911 c256_i32_4343
  let c199_i32_4344 : BitVec 32 := 199#32
  let v6913 : BitVec 32 := Scalar.addi v6912 c199_i32_4344
  let c8_i32_4348 : BitVec 32 := 8#32
  let v6918 : BitVec 32 := Scalar.muli v6913 c8_i32_4348
  v6918
def k0_off3891 (i : grid0.Coords) : Fin 1 → Nat :=
  let c1_i32_4345 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6914 : BitVec 32 := Scalar.subi c1_i32_4345 v9
  ![v6914.toNat]
def k0_off3892 (i : grid0.Coords) : Fin 3 → Nat :=
  let c1_i32_4345 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6914 : BitVec 32 := Scalar.subi c1_i32_4345 v9
  let arg1 : BitVec 32 := BitVec.ofNat 32 (i 1).val
  let c2_i32_4341 : BitVec 32 := 2#32
  let v6910 : BitVec 32 := Scalar.muli arg1 c2_i32_4341
  let c1_i32_4342 : BitVec 32 := 1#32
  let v6911 : BitVec 32 := Scalar.addi v6910 c1_i32_4342
  let c256_i32_4343 : BitVec 32 := 256#32
  let v6912 : BitVec 32 := Scalar.muli v6911 c256_i32_4343
  let c199_i32_4344 : BitVec 32 := 199#32
  let v6913 : BitVec 32 := Scalar.addi v6912 c199_i32_4344
  let c8_i32_4348 : BitVec 32 := 8#32
  let v6918 : BitVec 32 := Scalar.muli v6913 c8_i32_4348
  let v6919 : BitVec 32 := v6918
  let c0_i32_4349 : BitVec 32 := 0#32
  ![v6914.toNat, v6919.toNat, 0]
def k0_off3893 (v6916 : BitVec 32) : Fin 2 → Nat :=
  let v6917 : BitVec 32 := v6916
  let c0_i32_4350 : BitVec 32 := 0#32
  ![v6917.toNat, 0]

def k0_chk969 (i : grid0.Coords) (v6916 : BitVec 32) : Prop :=
  (∀ (k0_h3 : k0_cond3 i = 1#1), 8 ∣ (k0_mult1937 v6916).toNat) ∧
  (∀ (k0_h3 : k0_cond3 i = 1#1), ∀ a, (k0_off3893 v6916) a + S8x128.size a ≤ S131072x128.size a)
theorem k0_mult1937_dvd : ∀ (i : grid0.Coords) (v6916 : BitVec 32) (k0_hw969 : k0_chk969 i v6916), ∀ (k0_h3 : k0_cond3 i = 1#1), 8 ∣ (k0_mult1937 v6916).toNat := fun i v6916 k0_hw969 k0_h3 => k0_hw969.1 k0_h3
theorem k0_off3893_inb : ∀ (i : grid0.Coords) (v6916 : BitVec 32) (k0_hw969 : k0_chk969 i v6916), ∀ (k0_h3 : k0_cond3 i = 1#1), ∀ a, (k0_off3893 v6916) a + S8x128.size a ≤ S131072x128.size a := fun i v6916 k0_hw969 k0_h3 => k0_hw969.2 k0_h3

def k0_off3894 (i : grid0.Coords) : Fin 3 → Nat :=
  let c0_4356 : Index := 0#32
  let c0_4357 : Index := 0#32
  let arg1 : BitVec 32 := BitVec.ofNat 32 (i 1).val
  let c2_i32_4351 : BitVec 32 := 2#32
  let v6925 : BitVec 32 := Scalar.muli arg1 c2_i32_4351
  let c1_i32_4352 : BitVec 32 := 1#32
  let v6926 : BitVec 32 := Scalar.addi v6925 c1_i32_4352
  let c256_i32_4353 : BitVec 32 := 256#32
  let v6927 : BitVec 32 := Scalar.muli v6926 c256_i32_4353
  let c200_i32_4354 : BitVec 32 := 200#32
  let v6928 : BitVec 32 := Scalar.addi v6927 c200_i32_4354
  let v6930 : Index := Scalar.indexCast v6928
  ![0, 0, v6930.toNat]
def k0_mult1939 (v6931 : BitVec 32) : BitVec 32 :=
  v6931

def k0_mult1940 (i : grid0.Coords) : BitVec 32 :=
  let arg1 : BitVec 32 := BitVec.ofNat 32 (i 1).val
  let c2_i32_4351 : BitVec 32 := 2#32
  let v6925 : BitVec 32 := Scalar.muli arg1 c2_i32_4351
  let c1_i32_4352 : BitVec 32 := 1#32
  let v6926 : BitVec 32 := Scalar.addi v6925 c1_i32_4352
  let c256_i32_4353 : BitVec 32 := 256#32
  let v6927 : BitVec 32 := Scalar.muli v6926 c256_i32_4353
  let c200_i32_4354 : BitVec 32 := 200#32
  let v6928 : BitVec 32 := Scalar.addi v6927 c200_i32_4354
  let c8_i32_4358 : BitVec 32 := 8#32
  let v6933 : BitVec 32 := Scalar.muli v6928 c8_i32_4358
  v6933
def k0_off3895 (i : grid0.Coords) : Fin 1 → Nat :=
  let c1_i32_4355 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6929 : BitVec 32 := Scalar.subi c1_i32_4355 v9
  ![v6929.toNat]
def k0_off3896 (i : grid0.Coords) : Fin 3 → Nat :=
  let c1_i32_4355 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6929 : BitVec 32 := Scalar.subi c1_i32_4355 v9
  let arg1 : BitVec 32 := BitVec.ofNat 32 (i 1).val
  let c2_i32_4351 : BitVec 32 := 2#32
  let v6925 : BitVec 32 := Scalar.muli arg1 c2_i32_4351
  let c1_i32_4352 : BitVec 32 := 1#32
  let v6926 : BitVec 32 := Scalar.addi v6925 c1_i32_4352
  let c256_i32_4353 : BitVec 32 := 256#32
  let v6927 : BitVec 32 := Scalar.muli v6926 c256_i32_4353
  let c200_i32_4354 : BitVec 32 := 200#32
  let v6928 : BitVec 32 := Scalar.addi v6927 c200_i32_4354
  let c8_i32_4358 : BitVec 32 := 8#32
  let v6933 : BitVec 32 := Scalar.muli v6928 c8_i32_4358
  let v6934 : BitVec 32 := v6933
  let c0_i32_4359 : BitVec 32 := 0#32
  ![v6929.toNat, v6934.toNat, 0]
def k0_off3897 (v6931 : BitVec 32) : Fin 2 → Nat :=
  let v6932 : BitVec 32 := v6931
  let c0_i32_4360 : BitVec 32 := 0#32
  ![v6932.toNat, 0]

def k0_chk970 (i : grid0.Coords) (v6931 : BitVec 32) : Prop :=
  (∀ (k0_h3 : k0_cond3 i = 1#1), 8 ∣ (k0_mult1939 v6931).toNat) ∧
  (∀ (k0_h3 : k0_cond3 i = 1#1), ∀ a, (k0_off3897 v6931) a + S8x128.size a ≤ S131072x128.size a)
theorem k0_mult1939_dvd : ∀ (i : grid0.Coords) (v6931 : BitVec 32) (k0_hw970 : k0_chk970 i v6931), ∀ (k0_h3 : k0_cond3 i = 1#1), 8 ∣ (k0_mult1939 v6931).toNat := fun i v6931 k0_hw970 k0_h3 => k0_hw970.1 k0_h3
theorem k0_off3897_inb : ∀ (i : grid0.Coords) (v6931 : BitVec 32) (k0_hw970 : k0_chk970 i v6931), ∀ (k0_h3 : k0_cond3 i = 1#1), ∀ a, (k0_off3897 v6931) a + S8x128.size a ≤ S131072x128.size a := fun i v6931 k0_hw970 k0_h3 => k0_hw970.2 k0_h3

def k0_off3898 (i : grid0.Coords) : Fin 3 → Nat :=
  let c0_4366 : Index := 0#32
  let c0_4367 : Index := 0#32
  let arg1 : BitVec 32 := BitVec.ofNat 32 (i 1).val
  let c2_i32_4361 : BitVec 32 := 2#32
  let v6940 : BitVec 32 := Scalar.muli arg1 c2_i32_4361
  let c1_i32_4362 : BitVec 32 := 1#32
  let v6941 : BitVec 32 := Scalar.addi v6940 c1_i32_4362
  let c256_i32_4363 : BitVec 32 := 256#32
  let v6942 : BitVec 32 := Scalar.muli v6941 c256_i32_4363
  let c201_i32_4364 : BitVec 32 := 201#32
  let v6943 : BitVec 32 := Scalar.addi v6942 c201_i32_4364
  let v6945 : Index := Scalar.indexCast v6943
  ![0, 0, v6945.toNat]
def k0_mult1941 (v6946 : BitVec 32) : BitVec 32 :=
  v6946

def k0_mult1942 (i : grid0.Coords) : BitVec 32 :=
  let arg1 : BitVec 32 := BitVec.ofNat 32 (i 1).val
  let c2_i32_4361 : BitVec 32 := 2#32
  let v6940 : BitVec 32 := Scalar.muli arg1 c2_i32_4361
  let c1_i32_4362 : BitVec 32 := 1#32
  let v6941 : BitVec 32 := Scalar.addi v6940 c1_i32_4362
  let c256_i32_4363 : BitVec 32 := 256#32
  let v6942 : BitVec 32 := Scalar.muli v6941 c256_i32_4363
  let c201_i32_4364 : BitVec 32 := 201#32
  let v6943 : BitVec 32 := Scalar.addi v6942 c201_i32_4364
  let c8_i32_4368 : BitVec 32 := 8#32
  let v6948 : BitVec 32 := Scalar.muli v6943 c8_i32_4368
  v6948
def k0_off3899 (i : grid0.Coords) : Fin 1 → Nat :=
  let c1_i32_4365 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6944 : BitVec 32 := Scalar.subi c1_i32_4365 v9
  ![v6944.toNat]
def k0_off3900 (i : grid0.Coords) : Fin 3 → Nat :=
  let c1_i32_4365 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6944 : BitVec 32 := Scalar.subi c1_i32_4365 v9
  let arg1 : BitVec 32 := BitVec.ofNat 32 (i 1).val
  let c2_i32_4361 : BitVec 32 := 2#32
  let v6940 : BitVec 32 := Scalar.muli arg1 c2_i32_4361
  let c1_i32_4362 : BitVec 32 := 1#32
  let v6941 : BitVec 32 := Scalar.addi v6940 c1_i32_4362
  let c256_i32_4363 : BitVec 32 := 256#32
  let v6942 : BitVec 32 := Scalar.muli v6941 c256_i32_4363
  let c201_i32_4364 : BitVec 32 := 201#32
  let v6943 : BitVec 32 := Scalar.addi v6942 c201_i32_4364
  let c8_i32_4368 : BitVec 32 := 8#32
  let v6948 : BitVec 32 := Scalar.muli v6943 c8_i32_4368
  let v6949 : BitVec 32 := v6948
  let c0_i32_4369 : BitVec 32 := 0#32
  ![v6944.toNat, v6949.toNat, 0]
def k0_off3901 (v6946 : BitVec 32) : Fin 2 → Nat :=
  let v6947 : BitVec 32 := v6946
  let c0_i32_4370 : BitVec 32 := 0#32
  ![v6947.toNat, 0]

def k0_chk971 (i : grid0.Coords) (v6946 : BitVec 32) : Prop :=
  (∀ (k0_h3 : k0_cond3 i = 1#1), 8 ∣ (k0_mult1941 v6946).toNat) ∧
  (∀ (k0_h3 : k0_cond3 i = 1#1), ∀ a, (k0_off3901 v6946) a + S8x128.size a ≤ S131072x128.size a)
theorem k0_mult1941_dvd : ∀ (i : grid0.Coords) (v6946 : BitVec 32) (k0_hw971 : k0_chk971 i v6946), ∀ (k0_h3 : k0_cond3 i = 1#1), 8 ∣ (k0_mult1941 v6946).toNat := fun i v6946 k0_hw971 k0_h3 => k0_hw971.1 k0_h3
theorem k0_off3901_inb : ∀ (i : grid0.Coords) (v6946 : BitVec 32) (k0_hw971 : k0_chk971 i v6946), ∀ (k0_h3 : k0_cond3 i = 1#1), ∀ a, (k0_off3901 v6946) a + S8x128.size a ≤ S131072x128.size a := fun i v6946 k0_hw971 k0_h3 => k0_hw971.2 k0_h3

def k0_off3902 (i : grid0.Coords) : Fin 3 → Nat :=
  let c0_4376 : Index := 0#32
  let c0_4377 : Index := 0#32
  let arg1 : BitVec 32 := BitVec.ofNat 32 (i 1).val
  let c2_i32_4371 : BitVec 32 := 2#32
  let v6955 : BitVec 32 := Scalar.muli arg1 c2_i32_4371
  let c1_i32_4372 : BitVec 32 := 1#32
  let v6956 : BitVec 32 := Scalar.addi v6955 c1_i32_4372
  let c256_i32_4373 : BitVec 32 := 256#32
  let v6957 : BitVec 32 := Scalar.muli v6956 c256_i32_4373
  let c202_i32_4374 : BitVec 32 := 202#32
  let v6958 : BitVec 32 := Scalar.addi v6957 c202_i32_4374
  let v6960 : Index := Scalar.indexCast v6958
  ![0, 0, v6960.toNat]
def k0_mult1943 (v6961 : BitVec 32) : BitVec 32 :=
  v6961

def k0_mult1944 (i : grid0.Coords) : BitVec 32 :=
  let arg1 : BitVec 32 := BitVec.ofNat 32 (i 1).val
  let c2_i32_4371 : BitVec 32 := 2#32
  let v6955 : BitVec 32 := Scalar.muli arg1 c2_i32_4371
  let c1_i32_4372 : BitVec 32 := 1#32
  let v6956 : BitVec 32 := Scalar.addi v6955 c1_i32_4372
  let c256_i32_4373 : BitVec 32 := 256#32
  let v6957 : BitVec 32 := Scalar.muli v6956 c256_i32_4373
  let c202_i32_4374 : BitVec 32 := 202#32
  let v6958 : BitVec 32 := Scalar.addi v6957 c202_i32_4374
  let c8_i32_4378 : BitVec 32 := 8#32
  let v6963 : BitVec 32 := Scalar.muli v6958 c8_i32_4378
  v6963
def k0_off3903 (i : grid0.Coords) : Fin 1 → Nat :=
  let c1_i32_4375 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6959 : BitVec 32 := Scalar.subi c1_i32_4375 v9
  ![v6959.toNat]
def k0_off3904 (i : grid0.Coords) : Fin 3 → Nat :=
  let c1_i32_4375 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6959 : BitVec 32 := Scalar.subi c1_i32_4375 v9
  let arg1 : BitVec 32 := BitVec.ofNat 32 (i 1).val
  let c2_i32_4371 : BitVec 32 := 2#32
  let v6955 : BitVec 32 := Scalar.muli arg1 c2_i32_4371
  let c1_i32_4372 : BitVec 32 := 1#32
  let v6956 : BitVec 32 := Scalar.addi v6955 c1_i32_4372
  let c256_i32_4373 : BitVec 32 := 256#32
  let v6957 : BitVec 32 := Scalar.muli v6956 c256_i32_4373
  let c202_i32_4374 : BitVec 32 := 202#32
  let v6958 : BitVec 32 := Scalar.addi v6957 c202_i32_4374
  let c8_i32_4378 : BitVec 32 := 8#32
  let v6963 : BitVec 32 := Scalar.muli v6958 c8_i32_4378
  let v6964 : BitVec 32 := v6963
  let c0_i32_4379 : BitVec 32 := 0#32
  ![v6959.toNat, v6964.toNat, 0]
def k0_off3905 (v6961 : BitVec 32) : Fin 2 → Nat :=
  let v6962 : BitVec 32 := v6961
  let c0_i32_4380 : BitVec 32 := 0#32
  ![v6962.toNat, 0]

def k0_chk972 (i : grid0.Coords) (v6961 : BitVec 32) : Prop :=
  (∀ (k0_h3 : k0_cond3 i = 1#1), 8 ∣ (k0_mult1943 v6961).toNat) ∧
  (∀ (k0_h3 : k0_cond3 i = 1#1), ∀ a, (k0_off3905 v6961) a + S8x128.size a ≤ S131072x128.size a)
theorem k0_mult1943_dvd : ∀ (i : grid0.Coords) (v6961 : BitVec 32) (k0_hw972 : k0_chk972 i v6961), ∀ (k0_h3 : k0_cond3 i = 1#1), 8 ∣ (k0_mult1943 v6961).toNat := fun i v6961 k0_hw972 k0_h3 => k0_hw972.1 k0_h3
theorem k0_off3905_inb : ∀ (i : grid0.Coords) (v6961 : BitVec 32) (k0_hw972 : k0_chk972 i v6961), ∀ (k0_h3 : k0_cond3 i = 1#1), ∀ a, (k0_off3905 v6961) a + S8x128.size a ≤ S131072x128.size a := fun i v6961 k0_hw972 k0_h3 => k0_hw972.2 k0_h3

def k0_off3906 (i : grid0.Coords) : Fin 3 → Nat :=
  let c0_4386 : Index := 0#32
  let c0_4387 : Index := 0#32
  let arg1 : BitVec 32 := BitVec.ofNat 32 (i 1).val
  let c2_i32_4381 : BitVec 32 := 2#32
  let v6970 : BitVec 32 := Scalar.muli arg1 c2_i32_4381
  let c1_i32_4382 : BitVec 32 := 1#32
  let v6971 : BitVec 32 := Scalar.addi v6970 c1_i32_4382
  let c256_i32_4383 : BitVec 32 := 256#32
  let v6972 : BitVec 32 := Scalar.muli v6971 c256_i32_4383
  let c203_i32_4384 : BitVec 32 := 203#32
  let v6973 : BitVec 32 := Scalar.addi v6972 c203_i32_4384
  let v6975 : Index := Scalar.indexCast v6973
  ![0, 0, v6975.toNat]
def k0_mult1945 (v6976 : BitVec 32) : BitVec 32 :=
  v6976

def k0_mult1946 (i : grid0.Coords) : BitVec 32 :=
  let arg1 : BitVec 32 := BitVec.ofNat 32 (i 1).val
  let c2_i32_4381 : BitVec 32 := 2#32
  let v6970 : BitVec 32 := Scalar.muli arg1 c2_i32_4381
  let c1_i32_4382 : BitVec 32 := 1#32
  let v6971 : BitVec 32 := Scalar.addi v6970 c1_i32_4382
  let c256_i32_4383 : BitVec 32 := 256#32
  let v6972 : BitVec 32 := Scalar.muli v6971 c256_i32_4383
  let c203_i32_4384 : BitVec 32 := 203#32
  let v6973 : BitVec 32 := Scalar.addi v6972 c203_i32_4384
  let c8_i32_4388 : BitVec 32 := 8#32
  let v6978 : BitVec 32 := Scalar.muli v6973 c8_i32_4388
  v6978
def k0_off3907 (i : grid0.Coords) : Fin 1 → Nat :=
  let c1_i32_4385 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6974 : BitVec 32 := Scalar.subi c1_i32_4385 v9
  ![v6974.toNat]
def k0_off3908 (i : grid0.Coords) : Fin 3 → Nat :=
  let c1_i32_4385 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6974 : BitVec 32 := Scalar.subi c1_i32_4385 v9
  let arg1 : BitVec 32 := BitVec.ofNat 32 (i 1).val
  let c2_i32_4381 : BitVec 32 := 2#32
  let v6970 : BitVec 32 := Scalar.muli arg1 c2_i32_4381
  let c1_i32_4382 : BitVec 32 := 1#32
  let v6971 : BitVec 32 := Scalar.addi v6970 c1_i32_4382
  let c256_i32_4383 : BitVec 32 := 256#32
  let v6972 : BitVec 32 := Scalar.muli v6971 c256_i32_4383
  let c203_i32_4384 : BitVec 32 := 203#32
  let v6973 : BitVec 32 := Scalar.addi v6972 c203_i32_4384
  let c8_i32_4388 : BitVec 32 := 8#32
  let v6978 : BitVec 32 := Scalar.muli v6973 c8_i32_4388
  let v6979 : BitVec 32 := v6978
  let c0_i32_4389 : BitVec 32 := 0#32
  ![v6974.toNat, v6979.toNat, 0]
def k0_off3909 (v6976 : BitVec 32) : Fin 2 → Nat :=
  let v6977 : BitVec 32 := v6976
  let c0_i32_4390 : BitVec 32 := 0#32
  ![v6977.toNat, 0]

def k0_chk973 (i : grid0.Coords) (v6976 : BitVec 32) : Prop :=
  (∀ (k0_h3 : k0_cond3 i = 1#1), 8 ∣ (k0_mult1945 v6976).toNat) ∧
  (∀ (k0_h3 : k0_cond3 i = 1#1), ∀ a, (k0_off3909 v6976) a + S8x128.size a ≤ S131072x128.size a)
theorem k0_mult1945_dvd : ∀ (i : grid0.Coords) (v6976 : BitVec 32) (k0_hw973 : k0_chk973 i v6976), ∀ (k0_h3 : k0_cond3 i = 1#1), 8 ∣ (k0_mult1945 v6976).toNat := fun i v6976 k0_hw973 k0_h3 => k0_hw973.1 k0_h3
theorem k0_off3909_inb : ∀ (i : grid0.Coords) (v6976 : BitVec 32) (k0_hw973 : k0_chk973 i v6976), ∀ (k0_h3 : k0_cond3 i = 1#1), ∀ a, (k0_off3909 v6976) a + S8x128.size a ≤ S131072x128.size a := fun i v6976 k0_hw973 k0_h3 => k0_hw973.2 k0_h3

def k0_off3910 (i : grid0.Coords) : Fin 3 → Nat :=
  let c0_4396 : Index := 0#32
  let c0_4397 : Index := 0#32
  let arg1 : BitVec 32 := BitVec.ofNat 32 (i 1).val
  let c2_i32_4391 : BitVec 32 := 2#32
  let v6985 : BitVec 32 := Scalar.muli arg1 c2_i32_4391
  let c1_i32_4392 : BitVec 32 := 1#32
  let v6986 : BitVec 32 := Scalar.addi v6985 c1_i32_4392
  let c256_i32_4393 : BitVec 32 := 256#32
  let v6987 : BitVec 32 := Scalar.muli v6986 c256_i32_4393
  let c204_i32_4394 : BitVec 32 := 204#32
  let v6988 : BitVec 32 := Scalar.addi v6987 c204_i32_4394
  let v6990 : Index := Scalar.indexCast v6988
  ![0, 0, v6990.toNat]
def k0_mult1947 (v6991 : BitVec 32) : BitVec 32 :=
  v6991

def k0_mult1948 (i : grid0.Coords) : BitVec 32 :=
  let arg1 : BitVec 32 := BitVec.ofNat 32 (i 1).val
  let c2_i32_4391 : BitVec 32 := 2#32
  let v6985 : BitVec 32 := Scalar.muli arg1 c2_i32_4391
  let c1_i32_4392 : BitVec 32 := 1#32
  let v6986 : BitVec 32 := Scalar.addi v6985 c1_i32_4392
  let c256_i32_4393 : BitVec 32 := 256#32
  let v6987 : BitVec 32 := Scalar.muli v6986 c256_i32_4393
  let c204_i32_4394 : BitVec 32 := 204#32
  let v6988 : BitVec 32 := Scalar.addi v6987 c204_i32_4394
  let c8_i32_4398 : BitVec 32 := 8#32
  let v6993 : BitVec 32 := Scalar.muli v6988 c8_i32_4398
  v6993
def k0_off3911 (i : grid0.Coords) : Fin 1 → Nat :=
  let c1_i32_4395 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6989 : BitVec 32 := Scalar.subi c1_i32_4395 v9
  ![v6989.toNat]
def k0_off3912 (i : grid0.Coords) : Fin 3 → Nat :=
  let c1_i32_4395 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v6989 : BitVec 32 := Scalar.subi c1_i32_4395 v9
  let arg1 : BitVec 32 := BitVec.ofNat 32 (i 1).val
  let c2_i32_4391 : BitVec 32 := 2#32
  let v6985 : BitVec 32 := Scalar.muli arg1 c2_i32_4391
  let c1_i32_4392 : BitVec 32 := 1#32
  let v6986 : BitVec 32 := Scalar.addi v6985 c1_i32_4392
  let c256_i32_4393 : BitVec 32 := 256#32
  let v6987 : BitVec 32 := Scalar.muli v6986 c256_i32_4393
  let c204_i32_4394 : BitVec 32 := 204#32
  let v6988 : BitVec 32 := Scalar.addi v6987 c204_i32_4394
  let c8_i32_4398 : BitVec 32 := 8#32
  let v6993 : BitVec 32 := Scalar.muli v6988 c8_i32_4398
  let v6994 : BitVec 32 := v6993
  let c0_i32_4399 : BitVec 32 := 0#32
  ![v6989.toNat, v6994.toNat, 0]
def k0_off3913 (v6991 : BitVec 32) : Fin 2 → Nat :=
  let v6992 : BitVec 32 := v6991
  let c0_i32_4400 : BitVec 32 := 0#32
  ![v6992.toNat, 0]

def k0_chk974 (i : grid0.Coords) (v6991 : BitVec 32) : Prop :=
  (∀ (k0_h3 : k0_cond3 i = 1#1), 8 ∣ (k0_mult1947 v6991).toNat) ∧
  (∀ (k0_h3 : k0_cond3 i = 1#1), ∀ a, (k0_off3913 v6991) a + S8x128.size a ≤ S131072x128.size a)
theorem k0_mult1947_dvd : ∀ (i : grid0.Coords) (v6991 : BitVec 32) (k0_hw974 : k0_chk974 i v6991), ∀ (k0_h3 : k0_cond3 i = 1#1), 8 ∣ (k0_mult1947 v6991).toNat := fun i v6991 k0_hw974 k0_h3 => k0_hw974.1 k0_h3
theorem k0_off3913_inb : ∀ (i : grid0.Coords) (v6991 : BitVec 32) (k0_hw974 : k0_chk974 i v6991), ∀ (k0_h3 : k0_cond3 i = 1#1), ∀ a, (k0_off3913 v6991) a + S8x128.size a ≤ S131072x128.size a := fun i v6991 k0_hw974 k0_h3 => k0_hw974.2 k0_h3

def k0_off3914 (i : grid0.Coords) : Fin 3 → Nat :=
  let c0_4406 : Index := 0#32
  let c0_4407 : Index := 0#32
  let arg1 : BitVec 32 := BitVec.ofNat 32 (i 1).val
  let c2_i32_4401 : BitVec 32 := 2#32
  let v7000 : BitVec 32 := Scalar.muli arg1 c2_i32_4401
  let c1_i32_4402 : BitVec 32 := 1#32
  let v7001 : BitVec 32 := Scalar.addi v7000 c1_i32_4402
  let c256_i32_4403 : BitVec 32 := 256#32
  let v7002 : BitVec 32 := Scalar.muli v7001 c256_i32_4403
  let c205_i32_4404 : BitVec 32 := 205#32
  let v7003 : BitVec 32 := Scalar.addi v7002 c205_i32_4404
  let v7005 : Index := Scalar.indexCast v7003
  ![0, 0, v7005.toNat]
def k0_mult1949 (v7006 : BitVec 32) : BitVec 32 :=
  v7006

def k0_mult1950 (i : grid0.Coords) : BitVec 32 :=
  let arg1 : BitVec 32 := BitVec.ofNat 32 (i 1).val
  let c2_i32_4401 : BitVec 32 := 2#32
  let v7000 : BitVec 32 := Scalar.muli arg1 c2_i32_4401
  let c1_i32_4402 : BitVec 32 := 1#32
  let v7001 : BitVec 32 := Scalar.addi v7000 c1_i32_4402
  let c256_i32_4403 : BitVec 32 := 256#32
  let v7002 : BitVec 32 := Scalar.muli v7001 c256_i32_4403
  let c205_i32_4404 : BitVec 32 := 205#32
  let v7003 : BitVec 32 := Scalar.addi v7002 c205_i32_4404
  let c8_i32_4408 : BitVec 32 := 8#32
  let v7008 : BitVec 32 := Scalar.muli v7003 c8_i32_4408
  v7008
def k0_off3915 (i : grid0.Coords) : Fin 1 → Nat :=
  let c1_i32_4405 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7004 : BitVec 32 := Scalar.subi c1_i32_4405 v9
  ![v7004.toNat]
def k0_off3916 (i : grid0.Coords) : Fin 3 → Nat :=
  let c1_i32_4405 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7004 : BitVec 32 := Scalar.subi c1_i32_4405 v9
  let arg1 : BitVec 32 := BitVec.ofNat 32 (i 1).val
  let c2_i32_4401 : BitVec 32 := 2#32
  let v7000 : BitVec 32 := Scalar.muli arg1 c2_i32_4401
  let c1_i32_4402 : BitVec 32 := 1#32
  let v7001 : BitVec 32 := Scalar.addi v7000 c1_i32_4402
  let c256_i32_4403 : BitVec 32 := 256#32
  let v7002 : BitVec 32 := Scalar.muli v7001 c256_i32_4403
  let c205_i32_4404 : BitVec 32 := 205#32
  let v7003 : BitVec 32 := Scalar.addi v7002 c205_i32_4404
  let c8_i32_4408 : BitVec 32 := 8#32
  let v7008 : BitVec 32 := Scalar.muli v7003 c8_i32_4408
  let v7009 : BitVec 32 := v7008
  let c0_i32_4409 : BitVec 32 := 0#32
  ![v7004.toNat, v7009.toNat, 0]
def k0_off3917 (v7006 : BitVec 32) : Fin 2 → Nat :=
  let v7007 : BitVec 32 := v7006
  let c0_i32_4410 : BitVec 32 := 0#32
  ![v7007.toNat, 0]

def k0_chk975 (i : grid0.Coords) (v7006 : BitVec 32) : Prop :=
  (∀ (k0_h3 : k0_cond3 i = 1#1), 8 ∣ (k0_mult1949 v7006).toNat) ∧
  (∀ (k0_h3 : k0_cond3 i = 1#1), ∀ a, (k0_off3917 v7006) a + S8x128.size a ≤ S131072x128.size a)
theorem k0_mult1949_dvd : ∀ (i : grid0.Coords) (v7006 : BitVec 32) (k0_hw975 : k0_chk975 i v7006), ∀ (k0_h3 : k0_cond3 i = 1#1), 8 ∣ (k0_mult1949 v7006).toNat := fun i v7006 k0_hw975 k0_h3 => k0_hw975.1 k0_h3
theorem k0_off3917_inb : ∀ (i : grid0.Coords) (v7006 : BitVec 32) (k0_hw975 : k0_chk975 i v7006), ∀ (k0_h3 : k0_cond3 i = 1#1), ∀ a, (k0_off3917 v7006) a + S8x128.size a ≤ S131072x128.size a := fun i v7006 k0_hw975 k0_h3 => k0_hw975.2 k0_h3

def k0_off3918 (i : grid0.Coords) : Fin 3 → Nat :=
  let c0_4416 : Index := 0#32
  let c0_4417 : Index := 0#32
  let arg1 : BitVec 32 := BitVec.ofNat 32 (i 1).val
  let c2_i32_4411 : BitVec 32 := 2#32
  let v7015 : BitVec 32 := Scalar.muli arg1 c2_i32_4411
  let c1_i32_4412 : BitVec 32 := 1#32
  let v7016 : BitVec 32 := Scalar.addi v7015 c1_i32_4412
  let c256_i32_4413 : BitVec 32 := 256#32
  let v7017 : BitVec 32 := Scalar.muli v7016 c256_i32_4413
  let c206_i32_4414 : BitVec 32 := 206#32
  let v7018 : BitVec 32 := Scalar.addi v7017 c206_i32_4414
  let v7020 : Index := Scalar.indexCast v7018
  ![0, 0, v7020.toNat]
def k0_mult1951 (v7021 : BitVec 32) : BitVec 32 :=
  v7021

def k0_mult1952 (i : grid0.Coords) : BitVec 32 :=
  let arg1 : BitVec 32 := BitVec.ofNat 32 (i 1).val
  let c2_i32_4411 : BitVec 32 := 2#32
  let v7015 : BitVec 32 := Scalar.muli arg1 c2_i32_4411
  let c1_i32_4412 : BitVec 32 := 1#32
  let v7016 : BitVec 32 := Scalar.addi v7015 c1_i32_4412
  let c256_i32_4413 : BitVec 32 := 256#32
  let v7017 : BitVec 32 := Scalar.muli v7016 c256_i32_4413
  let c206_i32_4414 : BitVec 32 := 206#32
  let v7018 : BitVec 32 := Scalar.addi v7017 c206_i32_4414
  let c8_i32_4418 : BitVec 32 := 8#32
  let v7023 : BitVec 32 := Scalar.muli v7018 c8_i32_4418
  v7023
def k0_off3919 (i : grid0.Coords) : Fin 1 → Nat :=
  let c1_i32_4415 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7019 : BitVec 32 := Scalar.subi c1_i32_4415 v9
  ![v7019.toNat]
def k0_off3920 (i : grid0.Coords) : Fin 3 → Nat :=
  let c1_i32_4415 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7019 : BitVec 32 := Scalar.subi c1_i32_4415 v9
  let arg1 : BitVec 32 := BitVec.ofNat 32 (i 1).val
  let c2_i32_4411 : BitVec 32 := 2#32
  let v7015 : BitVec 32 := Scalar.muli arg1 c2_i32_4411
  let c1_i32_4412 : BitVec 32 := 1#32
  let v7016 : BitVec 32 := Scalar.addi v7015 c1_i32_4412
  let c256_i32_4413 : BitVec 32 := 256#32
  let v7017 : BitVec 32 := Scalar.muli v7016 c256_i32_4413
  let c206_i32_4414 : BitVec 32 := 206#32
  let v7018 : BitVec 32 := Scalar.addi v7017 c206_i32_4414
  let c8_i32_4418 : BitVec 32 := 8#32
  let v7023 : BitVec 32 := Scalar.muli v7018 c8_i32_4418
  let v7024 : BitVec 32 := v7023
  let c0_i32_4419 : BitVec 32 := 0#32
  ![v7019.toNat, v7024.toNat, 0]
def k0_off3921 (v7021 : BitVec 32) : Fin 2 → Nat :=
  let v7022 : BitVec 32 := v7021
  let c0_i32_4420 : BitVec 32 := 0#32
  ![v7022.toNat, 0]

def k0_chk976 (i : grid0.Coords) (v7021 : BitVec 32) : Prop :=
  (∀ (k0_h3 : k0_cond3 i = 1#1), 8 ∣ (k0_mult1951 v7021).toNat) ∧
  (∀ (k0_h3 : k0_cond3 i = 1#1), ∀ a, (k0_off3921 v7021) a + S8x128.size a ≤ S131072x128.size a)
theorem k0_mult1951_dvd : ∀ (i : grid0.Coords) (v7021 : BitVec 32) (k0_hw976 : k0_chk976 i v7021), ∀ (k0_h3 : k0_cond3 i = 1#1), 8 ∣ (k0_mult1951 v7021).toNat := fun i v7021 k0_hw976 k0_h3 => k0_hw976.1 k0_h3
theorem k0_off3921_inb : ∀ (i : grid0.Coords) (v7021 : BitVec 32) (k0_hw976 : k0_chk976 i v7021), ∀ (k0_h3 : k0_cond3 i = 1#1), ∀ a, (k0_off3921 v7021) a + S8x128.size a ≤ S131072x128.size a := fun i v7021 k0_hw976 k0_h3 => k0_hw976.2 k0_h3

def k0_off3922 (i : grid0.Coords) : Fin 3 → Nat :=
  let c0_4426 : Index := 0#32
  let c0_4427 : Index := 0#32
  let arg1 : BitVec 32 := BitVec.ofNat 32 (i 1).val
  let c2_i32_4421 : BitVec 32 := 2#32
  let v7030 : BitVec 32 := Scalar.muli arg1 c2_i32_4421
  let c1_i32_4422 : BitVec 32 := 1#32
  let v7031 : BitVec 32 := Scalar.addi v7030 c1_i32_4422
  let c256_i32_4423 : BitVec 32 := 256#32
  let v7032 : BitVec 32 := Scalar.muli v7031 c256_i32_4423
  let c207_i32_4424 : BitVec 32 := 207#32
  let v7033 : BitVec 32 := Scalar.addi v7032 c207_i32_4424
  let v7035 : Index := Scalar.indexCast v7033
  ![0, 0, v7035.toNat]
def k0_mult1953 (v7036 : BitVec 32) : BitVec 32 :=
  v7036

def k0_mult1954 (i : grid0.Coords) : BitVec 32 :=
  let arg1 : BitVec 32 := BitVec.ofNat 32 (i 1).val
  let c2_i32_4421 : BitVec 32 := 2#32
  let v7030 : BitVec 32 := Scalar.muli arg1 c2_i32_4421
  let c1_i32_4422 : BitVec 32 := 1#32
  let v7031 : BitVec 32 := Scalar.addi v7030 c1_i32_4422
  let c256_i32_4423 : BitVec 32 := 256#32
  let v7032 : BitVec 32 := Scalar.muli v7031 c256_i32_4423
  let c207_i32_4424 : BitVec 32 := 207#32
  let v7033 : BitVec 32 := Scalar.addi v7032 c207_i32_4424
  let c8_i32_4428 : BitVec 32 := 8#32
  let v7038 : BitVec 32 := Scalar.muli v7033 c8_i32_4428
  v7038
def k0_off3923 (i : grid0.Coords) : Fin 1 → Nat :=
  let c1_i32_4425 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7034 : BitVec 32 := Scalar.subi c1_i32_4425 v9
  ![v7034.toNat]
def k0_off3924 (i : grid0.Coords) : Fin 3 → Nat :=
  let c1_i32_4425 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7034 : BitVec 32 := Scalar.subi c1_i32_4425 v9
  let arg1 : BitVec 32 := BitVec.ofNat 32 (i 1).val
  let c2_i32_4421 : BitVec 32 := 2#32
  let v7030 : BitVec 32 := Scalar.muli arg1 c2_i32_4421
  let c1_i32_4422 : BitVec 32 := 1#32
  let v7031 : BitVec 32 := Scalar.addi v7030 c1_i32_4422
  let c256_i32_4423 : BitVec 32 := 256#32
  let v7032 : BitVec 32 := Scalar.muli v7031 c256_i32_4423
  let c207_i32_4424 : BitVec 32 := 207#32
  let v7033 : BitVec 32 := Scalar.addi v7032 c207_i32_4424
  let c8_i32_4428 : BitVec 32 := 8#32
  let v7038 : BitVec 32 := Scalar.muli v7033 c8_i32_4428
  let v7039 : BitVec 32 := v7038
  let c0_i32_4429 : BitVec 32 := 0#32
  ![v7034.toNat, v7039.toNat, 0]
def k0_off3925 (v7036 : BitVec 32) : Fin 2 → Nat :=
  let v7037 : BitVec 32 := v7036
  let c0_i32_4430 : BitVec 32 := 0#32
  ![v7037.toNat, 0]

def k0_chk977 (i : grid0.Coords) (v7036 : BitVec 32) : Prop :=
  (∀ (k0_h3 : k0_cond3 i = 1#1), 8 ∣ (k0_mult1953 v7036).toNat) ∧
  (∀ (k0_h3 : k0_cond3 i = 1#1), ∀ a, (k0_off3925 v7036) a + S8x128.size a ≤ S131072x128.size a)
theorem k0_mult1953_dvd : ∀ (i : grid0.Coords) (v7036 : BitVec 32) (k0_hw977 : k0_chk977 i v7036), ∀ (k0_h3 : k0_cond3 i = 1#1), 8 ∣ (k0_mult1953 v7036).toNat := fun i v7036 k0_hw977 k0_h3 => k0_hw977.1 k0_h3
theorem k0_off3925_inb : ∀ (i : grid0.Coords) (v7036 : BitVec 32) (k0_hw977 : k0_chk977 i v7036), ∀ (k0_h3 : k0_cond3 i = 1#1), ∀ a, (k0_off3925 v7036) a + S8x128.size a ≤ S131072x128.size a := fun i v7036 k0_hw977 k0_h3 => k0_hw977.2 k0_h3

def k0_off3926 (i : grid0.Coords) : Fin 3 → Nat :=
  let c0_4436 : Index := 0#32
  let c0_4437 : Index := 0#32
  let arg1 : BitVec 32 := BitVec.ofNat 32 (i 1).val
  let c2_i32_4431 : BitVec 32 := 2#32
  let v7045 : BitVec 32 := Scalar.muli arg1 c2_i32_4431
  let c1_i32_4432 : BitVec 32 := 1#32
  let v7046 : BitVec 32 := Scalar.addi v7045 c1_i32_4432
  let c256_i32_4433 : BitVec 32 := 256#32
  let v7047 : BitVec 32 := Scalar.muli v7046 c256_i32_4433
  let c208_i32_4434 : BitVec 32 := 208#32
  let v7048 : BitVec 32 := Scalar.addi v7047 c208_i32_4434
  let v7050 : Index := Scalar.indexCast v7048
  ![0, 0, v7050.toNat]
def k0_mult1955 (v7051 : BitVec 32) : BitVec 32 :=
  v7051

def k0_mult1956 (i : grid0.Coords) : BitVec 32 :=
  let arg1 : BitVec 32 := BitVec.ofNat 32 (i 1).val
  let c2_i32_4431 : BitVec 32 := 2#32
  let v7045 : BitVec 32 := Scalar.muli arg1 c2_i32_4431
  let c1_i32_4432 : BitVec 32 := 1#32
  let v7046 : BitVec 32 := Scalar.addi v7045 c1_i32_4432
  let c256_i32_4433 : BitVec 32 := 256#32
  let v7047 : BitVec 32 := Scalar.muli v7046 c256_i32_4433
  let c208_i32_4434 : BitVec 32 := 208#32
  let v7048 : BitVec 32 := Scalar.addi v7047 c208_i32_4434
  let c8_i32_4438 : BitVec 32 := 8#32
  let v7053 : BitVec 32 := Scalar.muli v7048 c8_i32_4438
  v7053
def k0_off3927 (i : grid0.Coords) : Fin 1 → Nat :=
  let c1_i32_4435 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7049 : BitVec 32 := Scalar.subi c1_i32_4435 v9
  ![v7049.toNat]
def k0_off3928 (i : grid0.Coords) : Fin 3 → Nat :=
  let c1_i32_4435 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7049 : BitVec 32 := Scalar.subi c1_i32_4435 v9
  let arg1 : BitVec 32 := BitVec.ofNat 32 (i 1).val
  let c2_i32_4431 : BitVec 32 := 2#32
  let v7045 : BitVec 32 := Scalar.muli arg1 c2_i32_4431
  let c1_i32_4432 : BitVec 32 := 1#32
  let v7046 : BitVec 32 := Scalar.addi v7045 c1_i32_4432
  let c256_i32_4433 : BitVec 32 := 256#32
  let v7047 : BitVec 32 := Scalar.muli v7046 c256_i32_4433
  let c208_i32_4434 : BitVec 32 := 208#32
  let v7048 : BitVec 32 := Scalar.addi v7047 c208_i32_4434
  let c8_i32_4438 : BitVec 32 := 8#32
  let v7053 : BitVec 32 := Scalar.muli v7048 c8_i32_4438
  let v7054 : BitVec 32 := v7053
  let c0_i32_4439 : BitVec 32 := 0#32
  ![v7049.toNat, v7054.toNat, 0]
def k0_off3929 (v7051 : BitVec 32) : Fin 2 → Nat :=
  let v7052 : BitVec 32 := v7051
  let c0_i32_4440 : BitVec 32 := 0#32
  ![v7052.toNat, 0]

def k0_chk978 (i : grid0.Coords) (v7051 : BitVec 32) : Prop :=
  (∀ (k0_h3 : k0_cond3 i = 1#1), 8 ∣ (k0_mult1955 v7051).toNat) ∧
  (∀ (k0_h3 : k0_cond3 i = 1#1), ∀ a, (k0_off3929 v7051) a + S8x128.size a ≤ S131072x128.size a)
theorem k0_mult1955_dvd : ∀ (i : grid0.Coords) (v7051 : BitVec 32) (k0_hw978 : k0_chk978 i v7051), ∀ (k0_h3 : k0_cond3 i = 1#1), 8 ∣ (k0_mult1955 v7051).toNat := fun i v7051 k0_hw978 k0_h3 => k0_hw978.1 k0_h3
theorem k0_off3929_inb : ∀ (i : grid0.Coords) (v7051 : BitVec 32) (k0_hw978 : k0_chk978 i v7051), ∀ (k0_h3 : k0_cond3 i = 1#1), ∀ a, (k0_off3929 v7051) a + S8x128.size a ≤ S131072x128.size a := fun i v7051 k0_hw978 k0_h3 => k0_hw978.2 k0_h3

def k0_off3930 (i : grid0.Coords) : Fin 3 → Nat :=
  let c0_4446 : Index := 0#32
  let c0_4447 : Index := 0#32
  let arg1 : BitVec 32 := BitVec.ofNat 32 (i 1).val
  let c2_i32_4441 : BitVec 32 := 2#32
  let v7060 : BitVec 32 := Scalar.muli arg1 c2_i32_4441
  let c1_i32_4442 : BitVec 32 := 1#32
  let v7061 : BitVec 32 := Scalar.addi v7060 c1_i32_4442
  let c256_i32_4443 : BitVec 32 := 256#32
  let v7062 : BitVec 32 := Scalar.muli v7061 c256_i32_4443
  let c209_i32_4444 : BitVec 32 := 209#32
  let v7063 : BitVec 32 := Scalar.addi v7062 c209_i32_4444
  let v7065 : Index := Scalar.indexCast v7063
  ![0, 0, v7065.toNat]
def k0_mult1957 (v7066 : BitVec 32) : BitVec 32 :=
  v7066

def k0_mult1958 (i : grid0.Coords) : BitVec 32 :=
  let arg1 : BitVec 32 := BitVec.ofNat 32 (i 1).val
  let c2_i32_4441 : BitVec 32 := 2#32
  let v7060 : BitVec 32 := Scalar.muli arg1 c2_i32_4441
  let c1_i32_4442 : BitVec 32 := 1#32
  let v7061 : BitVec 32 := Scalar.addi v7060 c1_i32_4442
  let c256_i32_4443 : BitVec 32 := 256#32
  let v7062 : BitVec 32 := Scalar.muli v7061 c256_i32_4443
  let c209_i32_4444 : BitVec 32 := 209#32
  let v7063 : BitVec 32 := Scalar.addi v7062 c209_i32_4444
  let c8_i32_4448 : BitVec 32 := 8#32
  let v7068 : BitVec 32 := Scalar.muli v7063 c8_i32_4448
  v7068
def k0_off3931 (i : grid0.Coords) : Fin 1 → Nat :=
  let c1_i32_4445 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7064 : BitVec 32 := Scalar.subi c1_i32_4445 v9
  ![v7064.toNat]
def k0_off3932 (i : grid0.Coords) : Fin 3 → Nat :=
  let c1_i32_4445 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7064 : BitVec 32 := Scalar.subi c1_i32_4445 v9
  let arg1 : BitVec 32 := BitVec.ofNat 32 (i 1).val
  let c2_i32_4441 : BitVec 32 := 2#32
  let v7060 : BitVec 32 := Scalar.muli arg1 c2_i32_4441
  let c1_i32_4442 : BitVec 32 := 1#32
  let v7061 : BitVec 32 := Scalar.addi v7060 c1_i32_4442
  let c256_i32_4443 : BitVec 32 := 256#32
  let v7062 : BitVec 32 := Scalar.muli v7061 c256_i32_4443
  let c209_i32_4444 : BitVec 32 := 209#32
  let v7063 : BitVec 32 := Scalar.addi v7062 c209_i32_4444
  let c8_i32_4448 : BitVec 32 := 8#32
  let v7068 : BitVec 32 := Scalar.muli v7063 c8_i32_4448
  let v7069 : BitVec 32 := v7068
  let c0_i32_4449 : BitVec 32 := 0#32
  ![v7064.toNat, v7069.toNat, 0]
def k0_off3933 (v7066 : BitVec 32) : Fin 2 → Nat :=
  let v7067 : BitVec 32 := v7066
  let c0_i32_4450 : BitVec 32 := 0#32
  ![v7067.toNat, 0]

def k0_chk979 (i : grid0.Coords) (v7066 : BitVec 32) : Prop :=
  (∀ (k0_h3 : k0_cond3 i = 1#1), 8 ∣ (k0_mult1957 v7066).toNat) ∧
  (∀ (k0_h3 : k0_cond3 i = 1#1), ∀ a, (k0_off3933 v7066) a + S8x128.size a ≤ S131072x128.size a)
theorem k0_mult1957_dvd : ∀ (i : grid0.Coords) (v7066 : BitVec 32) (k0_hw979 : k0_chk979 i v7066), ∀ (k0_h3 : k0_cond3 i = 1#1), 8 ∣ (k0_mult1957 v7066).toNat := fun i v7066 k0_hw979 k0_h3 => k0_hw979.1 k0_h3
theorem k0_off3933_inb : ∀ (i : grid0.Coords) (v7066 : BitVec 32) (k0_hw979 : k0_chk979 i v7066), ∀ (k0_h3 : k0_cond3 i = 1#1), ∀ a, (k0_off3933 v7066) a + S8x128.size a ≤ S131072x128.size a := fun i v7066 k0_hw979 k0_h3 => k0_hw979.2 k0_h3

def k0_off3934 (i : grid0.Coords) : Fin 3 → Nat :=
  let c0_4456 : Index := 0#32
  let c0_4457 : Index := 0#32
  let arg1 : BitVec 32 := BitVec.ofNat 32 (i 1).val
  let c2_i32_4451 : BitVec 32 := 2#32
  let v7075 : BitVec 32 := Scalar.muli arg1 c2_i32_4451
  let c1_i32_4452 : BitVec 32 := 1#32
  let v7076 : BitVec 32 := Scalar.addi v7075 c1_i32_4452
  let c256_i32_4453 : BitVec 32 := 256#32
  let v7077 : BitVec 32 := Scalar.muli v7076 c256_i32_4453
  let c210_i32_4454 : BitVec 32 := 210#32
  let v7078 : BitVec 32 := Scalar.addi v7077 c210_i32_4454
  let v7080 : Index := Scalar.indexCast v7078
  ![0, 0, v7080.toNat]
def k0_mult1959 (v7081 : BitVec 32) : BitVec 32 :=
  v7081

def k0_mult1960 (i : grid0.Coords) : BitVec 32 :=
  let arg1 : BitVec 32 := BitVec.ofNat 32 (i 1).val
  let c2_i32_4451 : BitVec 32 := 2#32
  let v7075 : BitVec 32 := Scalar.muli arg1 c2_i32_4451
  let c1_i32_4452 : BitVec 32 := 1#32
  let v7076 : BitVec 32 := Scalar.addi v7075 c1_i32_4452
  let c256_i32_4453 : BitVec 32 := 256#32
  let v7077 : BitVec 32 := Scalar.muli v7076 c256_i32_4453
  let c210_i32_4454 : BitVec 32 := 210#32
  let v7078 : BitVec 32 := Scalar.addi v7077 c210_i32_4454
  let c8_i32_4458 : BitVec 32 := 8#32
  let v7083 : BitVec 32 := Scalar.muli v7078 c8_i32_4458
  v7083
def k0_off3935 (i : grid0.Coords) : Fin 1 → Nat :=
  let c1_i32_4455 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7079 : BitVec 32 := Scalar.subi c1_i32_4455 v9
  ![v7079.toNat]
def k0_off3936 (i : grid0.Coords) : Fin 3 → Nat :=
  let c1_i32_4455 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7079 : BitVec 32 := Scalar.subi c1_i32_4455 v9
  let arg1 : BitVec 32 := BitVec.ofNat 32 (i 1).val
  let c2_i32_4451 : BitVec 32 := 2#32
  let v7075 : BitVec 32 := Scalar.muli arg1 c2_i32_4451
  let c1_i32_4452 : BitVec 32 := 1#32
  let v7076 : BitVec 32 := Scalar.addi v7075 c1_i32_4452
  let c256_i32_4453 : BitVec 32 := 256#32
  let v7077 : BitVec 32 := Scalar.muli v7076 c256_i32_4453
  let c210_i32_4454 : BitVec 32 := 210#32
  let v7078 : BitVec 32 := Scalar.addi v7077 c210_i32_4454
  let c8_i32_4458 : BitVec 32 := 8#32
  let v7083 : BitVec 32 := Scalar.muli v7078 c8_i32_4458
  let v7084 : BitVec 32 := v7083
  let c0_i32_4459 : BitVec 32 := 0#32
  ![v7079.toNat, v7084.toNat, 0]
def k0_off3937 (v7081 : BitVec 32) : Fin 2 → Nat :=
  let v7082 : BitVec 32 := v7081
  let c0_i32_4460 : BitVec 32 := 0#32
  ![v7082.toNat, 0]

def k0_chk980 (i : grid0.Coords) (v7081 : BitVec 32) : Prop :=
  (∀ (k0_h3 : k0_cond3 i = 1#1), 8 ∣ (k0_mult1959 v7081).toNat) ∧
  (∀ (k0_h3 : k0_cond3 i = 1#1), ∀ a, (k0_off3937 v7081) a + S8x128.size a ≤ S131072x128.size a)
theorem k0_mult1959_dvd : ∀ (i : grid0.Coords) (v7081 : BitVec 32) (k0_hw980 : k0_chk980 i v7081), ∀ (k0_h3 : k0_cond3 i = 1#1), 8 ∣ (k0_mult1959 v7081).toNat := fun i v7081 k0_hw980 k0_h3 => k0_hw980.1 k0_h3
theorem k0_off3937_inb : ∀ (i : grid0.Coords) (v7081 : BitVec 32) (k0_hw980 : k0_chk980 i v7081), ∀ (k0_h3 : k0_cond3 i = 1#1), ∀ a, (k0_off3937 v7081) a + S8x128.size a ≤ S131072x128.size a := fun i v7081 k0_hw980 k0_h3 => k0_hw980.2 k0_h3

def k0_off3938 (i : grid0.Coords) : Fin 3 → Nat :=
  let c0_4466 : Index := 0#32
  let c0_4467 : Index := 0#32
  let arg1 : BitVec 32 := BitVec.ofNat 32 (i 1).val
  let c2_i32_4461 : BitVec 32 := 2#32
  let v7090 : BitVec 32 := Scalar.muli arg1 c2_i32_4461
  let c1_i32_4462 : BitVec 32 := 1#32
  let v7091 : BitVec 32 := Scalar.addi v7090 c1_i32_4462
  let c256_i32_4463 : BitVec 32 := 256#32
  let v7092 : BitVec 32 := Scalar.muli v7091 c256_i32_4463
  let c211_i32_4464 : BitVec 32 := 211#32
  let v7093 : BitVec 32 := Scalar.addi v7092 c211_i32_4464
  let v7095 : Index := Scalar.indexCast v7093
  ![0, 0, v7095.toNat]
def k0_mult1961 (v7096 : BitVec 32) : BitVec 32 :=
  v7096

def k0_mult1962 (i : grid0.Coords) : BitVec 32 :=
  let arg1 : BitVec 32 := BitVec.ofNat 32 (i 1).val
  let c2_i32_4461 : BitVec 32 := 2#32
  let v7090 : BitVec 32 := Scalar.muli arg1 c2_i32_4461
  let c1_i32_4462 : BitVec 32 := 1#32
  let v7091 : BitVec 32 := Scalar.addi v7090 c1_i32_4462
  let c256_i32_4463 : BitVec 32 := 256#32
  let v7092 : BitVec 32 := Scalar.muli v7091 c256_i32_4463
  let c211_i32_4464 : BitVec 32 := 211#32
  let v7093 : BitVec 32 := Scalar.addi v7092 c211_i32_4464
  let c8_i32_4468 : BitVec 32 := 8#32
  let v7098 : BitVec 32 := Scalar.muli v7093 c8_i32_4468
  v7098
def k0_off3939 (i : grid0.Coords) : Fin 1 → Nat :=
  let c1_i32_4465 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7094 : BitVec 32 := Scalar.subi c1_i32_4465 v9
  ![v7094.toNat]
def k0_off3940 (i : grid0.Coords) : Fin 3 → Nat :=
  let c1_i32_4465 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7094 : BitVec 32 := Scalar.subi c1_i32_4465 v9
  let arg1 : BitVec 32 := BitVec.ofNat 32 (i 1).val
  let c2_i32_4461 : BitVec 32 := 2#32
  let v7090 : BitVec 32 := Scalar.muli arg1 c2_i32_4461
  let c1_i32_4462 : BitVec 32 := 1#32
  let v7091 : BitVec 32 := Scalar.addi v7090 c1_i32_4462
  let c256_i32_4463 : BitVec 32 := 256#32
  let v7092 : BitVec 32 := Scalar.muli v7091 c256_i32_4463
  let c211_i32_4464 : BitVec 32 := 211#32
  let v7093 : BitVec 32 := Scalar.addi v7092 c211_i32_4464
  let c8_i32_4468 : BitVec 32 := 8#32
  let v7098 : BitVec 32 := Scalar.muli v7093 c8_i32_4468
  let v7099 : BitVec 32 := v7098
  let c0_i32_4469 : BitVec 32 := 0#32
  ![v7094.toNat, v7099.toNat, 0]
def k0_off3941 (v7096 : BitVec 32) : Fin 2 → Nat :=
  let v7097 : BitVec 32 := v7096
  let c0_i32_4470 : BitVec 32 := 0#32
  ![v7097.toNat, 0]

def k0_chk981 (i : grid0.Coords) (v7096 : BitVec 32) : Prop :=
  (∀ (k0_h3 : k0_cond3 i = 1#1), 8 ∣ (k0_mult1961 v7096).toNat) ∧
  (∀ (k0_h3 : k0_cond3 i = 1#1), ∀ a, (k0_off3941 v7096) a + S8x128.size a ≤ S131072x128.size a)
theorem k0_mult1961_dvd : ∀ (i : grid0.Coords) (v7096 : BitVec 32) (k0_hw981 : k0_chk981 i v7096), ∀ (k0_h3 : k0_cond3 i = 1#1), 8 ∣ (k0_mult1961 v7096).toNat := fun i v7096 k0_hw981 k0_h3 => k0_hw981.1 k0_h3
theorem k0_off3941_inb : ∀ (i : grid0.Coords) (v7096 : BitVec 32) (k0_hw981 : k0_chk981 i v7096), ∀ (k0_h3 : k0_cond3 i = 1#1), ∀ a, (k0_off3941 v7096) a + S8x128.size a ≤ S131072x128.size a := fun i v7096 k0_hw981 k0_h3 => k0_hw981.2 k0_h3

def k0_off3942 (i : grid0.Coords) : Fin 3 → Nat :=
  let c0_4476 : Index := 0#32
  let c0_4477 : Index := 0#32
  let arg1 : BitVec 32 := BitVec.ofNat 32 (i 1).val
  let c2_i32_4471 : BitVec 32 := 2#32
  let v7105 : BitVec 32 := Scalar.muli arg1 c2_i32_4471
  let c1_i32_4472 : BitVec 32 := 1#32
  let v7106 : BitVec 32 := Scalar.addi v7105 c1_i32_4472
  let c256_i32_4473 : BitVec 32 := 256#32
  let v7107 : BitVec 32 := Scalar.muli v7106 c256_i32_4473
  let c212_i32_4474 : BitVec 32 := 212#32
  let v7108 : BitVec 32 := Scalar.addi v7107 c212_i32_4474
  let v7110 : Index := Scalar.indexCast v7108
  ![0, 0, v7110.toNat]
def k0_mult1963 (v7111 : BitVec 32) : BitVec 32 :=
  v7111

def k0_mult1964 (i : grid0.Coords) : BitVec 32 :=
  let arg1 : BitVec 32 := BitVec.ofNat 32 (i 1).val
  let c2_i32_4471 : BitVec 32 := 2#32
  let v7105 : BitVec 32 := Scalar.muli arg1 c2_i32_4471
  let c1_i32_4472 : BitVec 32 := 1#32
  let v7106 : BitVec 32 := Scalar.addi v7105 c1_i32_4472
  let c256_i32_4473 : BitVec 32 := 256#32
  let v7107 : BitVec 32 := Scalar.muli v7106 c256_i32_4473
  let c212_i32_4474 : BitVec 32 := 212#32
  let v7108 : BitVec 32 := Scalar.addi v7107 c212_i32_4474
  let c8_i32_4478 : BitVec 32 := 8#32
  let v7113 : BitVec 32 := Scalar.muli v7108 c8_i32_4478
  v7113
def k0_off3943 (i : grid0.Coords) : Fin 1 → Nat :=
  let c1_i32_4475 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7109 : BitVec 32 := Scalar.subi c1_i32_4475 v9
  ![v7109.toNat]
def k0_off3944 (i : grid0.Coords) : Fin 3 → Nat :=
  let c1_i32_4475 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7109 : BitVec 32 := Scalar.subi c1_i32_4475 v9
  let arg1 : BitVec 32 := BitVec.ofNat 32 (i 1).val
  let c2_i32_4471 : BitVec 32 := 2#32
  let v7105 : BitVec 32 := Scalar.muli arg1 c2_i32_4471
  let c1_i32_4472 : BitVec 32 := 1#32
  let v7106 : BitVec 32 := Scalar.addi v7105 c1_i32_4472
  let c256_i32_4473 : BitVec 32 := 256#32
  let v7107 : BitVec 32 := Scalar.muli v7106 c256_i32_4473
  let c212_i32_4474 : BitVec 32 := 212#32
  let v7108 : BitVec 32 := Scalar.addi v7107 c212_i32_4474
  let c8_i32_4478 : BitVec 32 := 8#32
  let v7113 : BitVec 32 := Scalar.muli v7108 c8_i32_4478
  let v7114 : BitVec 32 := v7113
  let c0_i32_4479 : BitVec 32 := 0#32
  ![v7109.toNat, v7114.toNat, 0]
def k0_off3945 (v7111 : BitVec 32) : Fin 2 → Nat :=
  let v7112 : BitVec 32 := v7111
  let c0_i32_4480 : BitVec 32 := 0#32
  ![v7112.toNat, 0]

def k0_chk982 (i : grid0.Coords) (v7111 : BitVec 32) : Prop :=
  (∀ (k0_h3 : k0_cond3 i = 1#1), 8 ∣ (k0_mult1963 v7111).toNat) ∧
  (∀ (k0_h3 : k0_cond3 i = 1#1), ∀ a, (k0_off3945 v7111) a + S8x128.size a ≤ S131072x128.size a)
theorem k0_mult1963_dvd : ∀ (i : grid0.Coords) (v7111 : BitVec 32) (k0_hw982 : k0_chk982 i v7111), ∀ (k0_h3 : k0_cond3 i = 1#1), 8 ∣ (k0_mult1963 v7111).toNat := fun i v7111 k0_hw982 k0_h3 => k0_hw982.1 k0_h3
theorem k0_off3945_inb : ∀ (i : grid0.Coords) (v7111 : BitVec 32) (k0_hw982 : k0_chk982 i v7111), ∀ (k0_h3 : k0_cond3 i = 1#1), ∀ a, (k0_off3945 v7111) a + S8x128.size a ≤ S131072x128.size a := fun i v7111 k0_hw982 k0_h3 => k0_hw982.2 k0_h3

def k0_off3946 (i : grid0.Coords) : Fin 3 → Nat :=
  let c0_4486 : Index := 0#32
  let c0_4487 : Index := 0#32
  let arg1 : BitVec 32 := BitVec.ofNat 32 (i 1).val
  let c2_i32_4481 : BitVec 32 := 2#32
  let v7120 : BitVec 32 := Scalar.muli arg1 c2_i32_4481
  let c1_i32_4482 : BitVec 32 := 1#32
  let v7121 : BitVec 32 := Scalar.addi v7120 c1_i32_4482
  let c256_i32_4483 : BitVec 32 := 256#32
  let v7122 : BitVec 32 := Scalar.muli v7121 c256_i32_4483
  let c213_i32_4484 : BitVec 32 := 213#32
  let v7123 : BitVec 32 := Scalar.addi v7122 c213_i32_4484
  let v7125 : Index := Scalar.indexCast v7123
  ![0, 0, v7125.toNat]
def k0_mult1965 (v7126 : BitVec 32) : BitVec 32 :=
  v7126

def k0_mult1966 (i : grid0.Coords) : BitVec 32 :=
  let arg1 : BitVec 32 := BitVec.ofNat 32 (i 1).val
  let c2_i32_4481 : BitVec 32 := 2#32
  let v7120 : BitVec 32 := Scalar.muli arg1 c2_i32_4481
  let c1_i32_4482 : BitVec 32 := 1#32
  let v7121 : BitVec 32 := Scalar.addi v7120 c1_i32_4482
  let c256_i32_4483 : BitVec 32 := 256#32
  let v7122 : BitVec 32 := Scalar.muli v7121 c256_i32_4483
  let c213_i32_4484 : BitVec 32 := 213#32
  let v7123 : BitVec 32 := Scalar.addi v7122 c213_i32_4484
  let c8_i32_4488 : BitVec 32 := 8#32
  let v7128 : BitVec 32 := Scalar.muli v7123 c8_i32_4488
  v7128
def k0_off3947 (i : grid0.Coords) : Fin 1 → Nat :=
  let c1_i32_4485 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7124 : BitVec 32 := Scalar.subi c1_i32_4485 v9
  ![v7124.toNat]
def k0_off3948 (i : grid0.Coords) : Fin 3 → Nat :=
  let c1_i32_4485 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7124 : BitVec 32 := Scalar.subi c1_i32_4485 v9
  let arg1 : BitVec 32 := BitVec.ofNat 32 (i 1).val
  let c2_i32_4481 : BitVec 32 := 2#32
  let v7120 : BitVec 32 := Scalar.muli arg1 c2_i32_4481
  let c1_i32_4482 : BitVec 32 := 1#32
  let v7121 : BitVec 32 := Scalar.addi v7120 c1_i32_4482
  let c256_i32_4483 : BitVec 32 := 256#32
  let v7122 : BitVec 32 := Scalar.muli v7121 c256_i32_4483
  let c213_i32_4484 : BitVec 32 := 213#32
  let v7123 : BitVec 32 := Scalar.addi v7122 c213_i32_4484
  let c8_i32_4488 : BitVec 32 := 8#32
  let v7128 : BitVec 32 := Scalar.muli v7123 c8_i32_4488
  let v7129 : BitVec 32 := v7128
  let c0_i32_4489 : BitVec 32 := 0#32
  ![v7124.toNat, v7129.toNat, 0]
def k0_off3949 (v7126 : BitVec 32) : Fin 2 → Nat :=
  let v7127 : BitVec 32 := v7126
  let c0_i32_4490 : BitVec 32 := 0#32
  ![v7127.toNat, 0]

def k0_chk983 (i : grid0.Coords) (v7126 : BitVec 32) : Prop :=
  (∀ (k0_h3 : k0_cond3 i = 1#1), 8 ∣ (k0_mult1965 v7126).toNat) ∧
  (∀ (k0_h3 : k0_cond3 i = 1#1), ∀ a, (k0_off3949 v7126) a + S8x128.size a ≤ S131072x128.size a)
theorem k0_mult1965_dvd : ∀ (i : grid0.Coords) (v7126 : BitVec 32) (k0_hw983 : k0_chk983 i v7126), ∀ (k0_h3 : k0_cond3 i = 1#1), 8 ∣ (k0_mult1965 v7126).toNat := fun i v7126 k0_hw983 k0_h3 => k0_hw983.1 k0_h3
theorem k0_off3949_inb : ∀ (i : grid0.Coords) (v7126 : BitVec 32) (k0_hw983 : k0_chk983 i v7126), ∀ (k0_h3 : k0_cond3 i = 1#1), ∀ a, (k0_off3949 v7126) a + S8x128.size a ≤ S131072x128.size a := fun i v7126 k0_hw983 k0_h3 => k0_hw983.2 k0_h3

def k0_off3950 (i : grid0.Coords) : Fin 3 → Nat :=
  let c0_4496 : Index := 0#32
  let c0_4497 : Index := 0#32
  let arg1 : BitVec 32 := BitVec.ofNat 32 (i 1).val
  let c2_i32_4491 : BitVec 32 := 2#32
  let v7135 : BitVec 32 := Scalar.muli arg1 c2_i32_4491
  let c1_i32_4492 : BitVec 32 := 1#32
  let v7136 : BitVec 32 := Scalar.addi v7135 c1_i32_4492
  let c256_i32_4493 : BitVec 32 := 256#32
  let v7137 : BitVec 32 := Scalar.muli v7136 c256_i32_4493
  let c214_i32_4494 : BitVec 32 := 214#32
  let v7138 : BitVec 32 := Scalar.addi v7137 c214_i32_4494
  let v7140 : Index := Scalar.indexCast v7138
  ![0, 0, v7140.toNat]
def k0_mult1967 (v7141 : BitVec 32) : BitVec 32 :=
  v7141

def k0_mult1968 (i : grid0.Coords) : BitVec 32 :=
  let arg1 : BitVec 32 := BitVec.ofNat 32 (i 1).val
  let c2_i32_4491 : BitVec 32 := 2#32
  let v7135 : BitVec 32 := Scalar.muli arg1 c2_i32_4491
  let c1_i32_4492 : BitVec 32 := 1#32
  let v7136 : BitVec 32 := Scalar.addi v7135 c1_i32_4492
  let c256_i32_4493 : BitVec 32 := 256#32
  let v7137 : BitVec 32 := Scalar.muli v7136 c256_i32_4493
  let c214_i32_4494 : BitVec 32 := 214#32
  let v7138 : BitVec 32 := Scalar.addi v7137 c214_i32_4494
  let c8_i32_4498 : BitVec 32 := 8#32
  let v7143 : BitVec 32 := Scalar.muli v7138 c8_i32_4498
  v7143
def k0_off3951 (i : grid0.Coords) : Fin 1 → Nat :=
  let c1_i32_4495 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7139 : BitVec 32 := Scalar.subi c1_i32_4495 v9
  ![v7139.toNat]
def k0_off3952 (i : grid0.Coords) : Fin 3 → Nat :=
  let c1_i32_4495 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7139 : BitVec 32 := Scalar.subi c1_i32_4495 v9
  let arg1 : BitVec 32 := BitVec.ofNat 32 (i 1).val
  let c2_i32_4491 : BitVec 32 := 2#32
  let v7135 : BitVec 32 := Scalar.muli arg1 c2_i32_4491
  let c1_i32_4492 : BitVec 32 := 1#32
  let v7136 : BitVec 32 := Scalar.addi v7135 c1_i32_4492
  let c256_i32_4493 : BitVec 32 := 256#32
  let v7137 : BitVec 32 := Scalar.muli v7136 c256_i32_4493
  let c214_i32_4494 : BitVec 32 := 214#32
  let v7138 : BitVec 32 := Scalar.addi v7137 c214_i32_4494
  let c8_i32_4498 : BitVec 32 := 8#32
  let v7143 : BitVec 32 := Scalar.muli v7138 c8_i32_4498
  let v7144 : BitVec 32 := v7143
  let c0_i32_4499 : BitVec 32 := 0#32
  ![v7139.toNat, v7144.toNat, 0]
def k0_off3953 (v7141 : BitVec 32) : Fin 2 → Nat :=
  let v7142 : BitVec 32 := v7141
  let c0_i32_4500 : BitVec 32 := 0#32
  ![v7142.toNat, 0]

def k0_chk984 (i : grid0.Coords) (v7141 : BitVec 32) : Prop :=
  (∀ (k0_h3 : k0_cond3 i = 1#1), 8 ∣ (k0_mult1967 v7141).toNat) ∧
  (∀ (k0_h3 : k0_cond3 i = 1#1), ∀ a, (k0_off3953 v7141) a + S8x128.size a ≤ S131072x128.size a)
theorem k0_mult1967_dvd : ∀ (i : grid0.Coords) (v7141 : BitVec 32) (k0_hw984 : k0_chk984 i v7141), ∀ (k0_h3 : k0_cond3 i = 1#1), 8 ∣ (k0_mult1967 v7141).toNat := fun i v7141 k0_hw984 k0_h3 => k0_hw984.1 k0_h3
theorem k0_off3953_inb : ∀ (i : grid0.Coords) (v7141 : BitVec 32) (k0_hw984 : k0_chk984 i v7141), ∀ (k0_h3 : k0_cond3 i = 1#1), ∀ a, (k0_off3953 v7141) a + S8x128.size a ≤ S131072x128.size a := fun i v7141 k0_hw984 k0_h3 => k0_hw984.2 k0_h3

def k0_off3954 (i : grid0.Coords) : Fin 3 → Nat :=
  let c0_4506 : Index := 0#32
  let c0_4507 : Index := 0#32
  let arg1 : BitVec 32 := BitVec.ofNat 32 (i 1).val
  let c2_i32_4501 : BitVec 32 := 2#32
  let v7150 : BitVec 32 := Scalar.muli arg1 c2_i32_4501
  let c1_i32_4502 : BitVec 32 := 1#32
  let v7151 : BitVec 32 := Scalar.addi v7150 c1_i32_4502
  let c256_i32_4503 : BitVec 32 := 256#32
  let v7152 : BitVec 32 := Scalar.muli v7151 c256_i32_4503
  let c215_i32_4504 : BitVec 32 := 215#32
  let v7153 : BitVec 32 := Scalar.addi v7152 c215_i32_4504
  let v7155 : Index := Scalar.indexCast v7153
  ![0, 0, v7155.toNat]
def k0_mult1969 (v7156 : BitVec 32) : BitVec 32 :=
  v7156

def k0_mult1970 (i : grid0.Coords) : BitVec 32 :=
  let arg1 : BitVec 32 := BitVec.ofNat 32 (i 1).val
  let c2_i32_4501 : BitVec 32 := 2#32
  let v7150 : BitVec 32 := Scalar.muli arg1 c2_i32_4501
  let c1_i32_4502 : BitVec 32 := 1#32
  let v7151 : BitVec 32 := Scalar.addi v7150 c1_i32_4502
  let c256_i32_4503 : BitVec 32 := 256#32
  let v7152 : BitVec 32 := Scalar.muli v7151 c256_i32_4503
  let c215_i32_4504 : BitVec 32 := 215#32
  let v7153 : BitVec 32 := Scalar.addi v7152 c215_i32_4504
  let c8_i32_4508 : BitVec 32 := 8#32
  let v7158 : BitVec 32 := Scalar.muli v7153 c8_i32_4508
  v7158
def k0_off3955 (i : grid0.Coords) : Fin 1 → Nat :=
  let c1_i32_4505 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7154 : BitVec 32 := Scalar.subi c1_i32_4505 v9
  ![v7154.toNat]
def k0_off3956 (i : grid0.Coords) : Fin 3 → Nat :=
  let c1_i32_4505 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7154 : BitVec 32 := Scalar.subi c1_i32_4505 v9
  let arg1 : BitVec 32 := BitVec.ofNat 32 (i 1).val
  let c2_i32_4501 : BitVec 32 := 2#32
  let v7150 : BitVec 32 := Scalar.muli arg1 c2_i32_4501
  let c1_i32_4502 : BitVec 32 := 1#32
  let v7151 : BitVec 32 := Scalar.addi v7150 c1_i32_4502
  let c256_i32_4503 : BitVec 32 := 256#32
  let v7152 : BitVec 32 := Scalar.muli v7151 c256_i32_4503
  let c215_i32_4504 : BitVec 32 := 215#32
  let v7153 : BitVec 32 := Scalar.addi v7152 c215_i32_4504
  let c8_i32_4508 : BitVec 32 := 8#32
  let v7158 : BitVec 32 := Scalar.muli v7153 c8_i32_4508
  let v7159 : BitVec 32 := v7158
  let c0_i32_4509 : BitVec 32 := 0#32
  ![v7154.toNat, v7159.toNat, 0]
def k0_off3957 (v7156 : BitVec 32) : Fin 2 → Nat :=
  let v7157 : BitVec 32 := v7156
  let c0_i32_4510 : BitVec 32 := 0#32
  ![v7157.toNat, 0]

def k0_chk985 (i : grid0.Coords) (v7156 : BitVec 32) : Prop :=
  (∀ (k0_h3 : k0_cond3 i = 1#1), 8 ∣ (k0_mult1969 v7156).toNat) ∧
  (∀ (k0_h3 : k0_cond3 i = 1#1), ∀ a, (k0_off3957 v7156) a + S8x128.size a ≤ S131072x128.size a)
theorem k0_mult1969_dvd : ∀ (i : grid0.Coords) (v7156 : BitVec 32) (k0_hw985 : k0_chk985 i v7156), ∀ (k0_h3 : k0_cond3 i = 1#1), 8 ∣ (k0_mult1969 v7156).toNat := fun i v7156 k0_hw985 k0_h3 => k0_hw985.1 k0_h3
theorem k0_off3957_inb : ∀ (i : grid0.Coords) (v7156 : BitVec 32) (k0_hw985 : k0_chk985 i v7156), ∀ (k0_h3 : k0_cond3 i = 1#1), ∀ a, (k0_off3957 v7156) a + S8x128.size a ≤ S131072x128.size a := fun i v7156 k0_hw985 k0_h3 => k0_hw985.2 k0_h3

def k0_off3958 (i : grid0.Coords) : Fin 3 → Nat :=
  let c0_4516 : Index := 0#32
  let c0_4517 : Index := 0#32
  let arg1 : BitVec 32 := BitVec.ofNat 32 (i 1).val
  let c2_i32_4511 : BitVec 32 := 2#32
  let v7165 : BitVec 32 := Scalar.muli arg1 c2_i32_4511
  let c1_i32_4512 : BitVec 32 := 1#32
  let v7166 : BitVec 32 := Scalar.addi v7165 c1_i32_4512
  let c256_i32_4513 : BitVec 32 := 256#32
  let v7167 : BitVec 32 := Scalar.muli v7166 c256_i32_4513
  let c216_i32_4514 : BitVec 32 := 216#32
  let v7168 : BitVec 32 := Scalar.addi v7167 c216_i32_4514
  let v7170 : Index := Scalar.indexCast v7168
  ![0, 0, v7170.toNat]
def k0_mult1971 (v7171 : BitVec 32) : BitVec 32 :=
  v7171

def k0_mult1972 (i : grid0.Coords) : BitVec 32 :=
  let arg1 : BitVec 32 := BitVec.ofNat 32 (i 1).val
  let c2_i32_4511 : BitVec 32 := 2#32
  let v7165 : BitVec 32 := Scalar.muli arg1 c2_i32_4511
  let c1_i32_4512 : BitVec 32 := 1#32
  let v7166 : BitVec 32 := Scalar.addi v7165 c1_i32_4512
  let c256_i32_4513 : BitVec 32 := 256#32
  let v7167 : BitVec 32 := Scalar.muli v7166 c256_i32_4513
  let c216_i32_4514 : BitVec 32 := 216#32
  let v7168 : BitVec 32 := Scalar.addi v7167 c216_i32_4514
  let c8_i32_4518 : BitVec 32 := 8#32
  let v7173 : BitVec 32 := Scalar.muli v7168 c8_i32_4518
  v7173
def k0_off3959 (i : grid0.Coords) : Fin 1 → Nat :=
  let c1_i32_4515 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7169 : BitVec 32 := Scalar.subi c1_i32_4515 v9
  ![v7169.toNat]
def k0_off3960 (i : grid0.Coords) : Fin 3 → Nat :=
  let c1_i32_4515 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7169 : BitVec 32 := Scalar.subi c1_i32_4515 v9
  let arg1 : BitVec 32 := BitVec.ofNat 32 (i 1).val
  let c2_i32_4511 : BitVec 32 := 2#32
  let v7165 : BitVec 32 := Scalar.muli arg1 c2_i32_4511
  let c1_i32_4512 : BitVec 32 := 1#32
  let v7166 : BitVec 32 := Scalar.addi v7165 c1_i32_4512
  let c256_i32_4513 : BitVec 32 := 256#32
  let v7167 : BitVec 32 := Scalar.muli v7166 c256_i32_4513
  let c216_i32_4514 : BitVec 32 := 216#32
  let v7168 : BitVec 32 := Scalar.addi v7167 c216_i32_4514
  let c8_i32_4518 : BitVec 32 := 8#32
  let v7173 : BitVec 32 := Scalar.muli v7168 c8_i32_4518
  let v7174 : BitVec 32 := v7173
  let c0_i32_4519 : BitVec 32 := 0#32
  ![v7169.toNat, v7174.toNat, 0]
def k0_off3961 (v7171 : BitVec 32) : Fin 2 → Nat :=
  let v7172 : BitVec 32 := v7171
  let c0_i32_4520 : BitVec 32 := 0#32
  ![v7172.toNat, 0]

def k0_chk986 (i : grid0.Coords) (v7171 : BitVec 32) : Prop :=
  (∀ (k0_h3 : k0_cond3 i = 1#1), 8 ∣ (k0_mult1971 v7171).toNat) ∧
  (∀ (k0_h3 : k0_cond3 i = 1#1), ∀ a, (k0_off3961 v7171) a + S8x128.size a ≤ S131072x128.size a)
theorem k0_mult1971_dvd : ∀ (i : grid0.Coords) (v7171 : BitVec 32) (k0_hw986 : k0_chk986 i v7171), ∀ (k0_h3 : k0_cond3 i = 1#1), 8 ∣ (k0_mult1971 v7171).toNat := fun i v7171 k0_hw986 k0_h3 => k0_hw986.1 k0_h3
theorem k0_off3961_inb : ∀ (i : grid0.Coords) (v7171 : BitVec 32) (k0_hw986 : k0_chk986 i v7171), ∀ (k0_h3 : k0_cond3 i = 1#1), ∀ a, (k0_off3961 v7171) a + S8x128.size a ≤ S131072x128.size a := fun i v7171 k0_hw986 k0_h3 => k0_hw986.2 k0_h3

def k0_off3962 (i : grid0.Coords) : Fin 3 → Nat :=
  let c0_4526 : Index := 0#32
  let c0_4527 : Index := 0#32
  let arg1 : BitVec 32 := BitVec.ofNat 32 (i 1).val
  let c2_i32_4521 : BitVec 32 := 2#32
  let v7180 : BitVec 32 := Scalar.muli arg1 c2_i32_4521
  let c1_i32_4522 : BitVec 32 := 1#32
  let v7181 : BitVec 32 := Scalar.addi v7180 c1_i32_4522
  let c256_i32_4523 : BitVec 32 := 256#32
  let v7182 : BitVec 32 := Scalar.muli v7181 c256_i32_4523
  let c217_i32_4524 : BitVec 32 := 217#32
  let v7183 : BitVec 32 := Scalar.addi v7182 c217_i32_4524
  let v7185 : Index := Scalar.indexCast v7183
  ![0, 0, v7185.toNat]
def k0_mult1973 (v7186 : BitVec 32) : BitVec 32 :=
  v7186

def k0_mult1974 (i : grid0.Coords) : BitVec 32 :=
  let arg1 : BitVec 32 := BitVec.ofNat 32 (i 1).val
  let c2_i32_4521 : BitVec 32 := 2#32
  let v7180 : BitVec 32 := Scalar.muli arg1 c2_i32_4521
  let c1_i32_4522 : BitVec 32 := 1#32
  let v7181 : BitVec 32 := Scalar.addi v7180 c1_i32_4522
  let c256_i32_4523 : BitVec 32 := 256#32
  let v7182 : BitVec 32 := Scalar.muli v7181 c256_i32_4523
  let c217_i32_4524 : BitVec 32 := 217#32
  let v7183 : BitVec 32 := Scalar.addi v7182 c217_i32_4524
  let c8_i32_4528 : BitVec 32 := 8#32
  let v7188 : BitVec 32 := Scalar.muli v7183 c8_i32_4528
  v7188
def k0_off3963 (i : grid0.Coords) : Fin 1 → Nat :=
  let c1_i32_4525 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7184 : BitVec 32 := Scalar.subi c1_i32_4525 v9
  ![v7184.toNat]
def k0_off3964 (i : grid0.Coords) : Fin 3 → Nat :=
  let c1_i32_4525 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7184 : BitVec 32 := Scalar.subi c1_i32_4525 v9
  let arg1 : BitVec 32 := BitVec.ofNat 32 (i 1).val
  let c2_i32_4521 : BitVec 32 := 2#32
  let v7180 : BitVec 32 := Scalar.muli arg1 c2_i32_4521
  let c1_i32_4522 : BitVec 32 := 1#32
  let v7181 : BitVec 32 := Scalar.addi v7180 c1_i32_4522
  let c256_i32_4523 : BitVec 32 := 256#32
  let v7182 : BitVec 32 := Scalar.muli v7181 c256_i32_4523
  let c217_i32_4524 : BitVec 32 := 217#32
  let v7183 : BitVec 32 := Scalar.addi v7182 c217_i32_4524
  let c8_i32_4528 : BitVec 32 := 8#32
  let v7188 : BitVec 32 := Scalar.muli v7183 c8_i32_4528
  let v7189 : BitVec 32 := v7188
  let c0_i32_4529 : BitVec 32 := 0#32
  ![v7184.toNat, v7189.toNat, 0]
def k0_off3965 (v7186 : BitVec 32) : Fin 2 → Nat :=
  let v7187 : BitVec 32 := v7186
  let c0_i32_4530 : BitVec 32 := 0#32
  ![v7187.toNat, 0]

def k0_chk987 (i : grid0.Coords) (v7186 : BitVec 32) : Prop :=
  (∀ (k0_h3 : k0_cond3 i = 1#1), 8 ∣ (k0_mult1973 v7186).toNat) ∧
  (∀ (k0_h3 : k0_cond3 i = 1#1), ∀ a, (k0_off3965 v7186) a + S8x128.size a ≤ S131072x128.size a)
theorem k0_mult1973_dvd : ∀ (i : grid0.Coords) (v7186 : BitVec 32) (k0_hw987 : k0_chk987 i v7186), ∀ (k0_h3 : k0_cond3 i = 1#1), 8 ∣ (k0_mult1973 v7186).toNat := fun i v7186 k0_hw987 k0_h3 => k0_hw987.1 k0_h3
theorem k0_off3965_inb : ∀ (i : grid0.Coords) (v7186 : BitVec 32) (k0_hw987 : k0_chk987 i v7186), ∀ (k0_h3 : k0_cond3 i = 1#1), ∀ a, (k0_off3965 v7186) a + S8x128.size a ≤ S131072x128.size a := fun i v7186 k0_hw987 k0_h3 => k0_hw987.2 k0_h3

def k0_off3966 (i : grid0.Coords) : Fin 3 → Nat :=
  let c0_4536 : Index := 0#32
  let c0_4537 : Index := 0#32
  let arg1 : BitVec 32 := BitVec.ofNat 32 (i 1).val
  let c2_i32_4531 : BitVec 32 := 2#32
  let v7195 : BitVec 32 := Scalar.muli arg1 c2_i32_4531
  let c1_i32_4532 : BitVec 32 := 1#32
  let v7196 : BitVec 32 := Scalar.addi v7195 c1_i32_4532
  let c256_i32_4533 : BitVec 32 := 256#32
  let v7197 : BitVec 32 := Scalar.muli v7196 c256_i32_4533
  let c218_i32_4534 : BitVec 32 := 218#32
  let v7198 : BitVec 32 := Scalar.addi v7197 c218_i32_4534
  let v7200 : Index := Scalar.indexCast v7198
  ![0, 0, v7200.toNat]
def k0_mult1975 (v7201 : BitVec 32) : BitVec 32 :=
  v7201

def k0_mult1976 (i : grid0.Coords) : BitVec 32 :=
  let arg1 : BitVec 32 := BitVec.ofNat 32 (i 1).val
  let c2_i32_4531 : BitVec 32 := 2#32
  let v7195 : BitVec 32 := Scalar.muli arg1 c2_i32_4531
  let c1_i32_4532 : BitVec 32 := 1#32
  let v7196 : BitVec 32 := Scalar.addi v7195 c1_i32_4532
  let c256_i32_4533 : BitVec 32 := 256#32
  let v7197 : BitVec 32 := Scalar.muli v7196 c256_i32_4533
  let c218_i32_4534 : BitVec 32 := 218#32
  let v7198 : BitVec 32 := Scalar.addi v7197 c218_i32_4534
  let c8_i32_4538 : BitVec 32 := 8#32
  let v7203 : BitVec 32 := Scalar.muli v7198 c8_i32_4538
  v7203
def k0_off3967 (i : grid0.Coords) : Fin 1 → Nat :=
  let c1_i32_4535 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7199 : BitVec 32 := Scalar.subi c1_i32_4535 v9
  ![v7199.toNat]
def k0_off3968 (i : grid0.Coords) : Fin 3 → Nat :=
  let c1_i32_4535 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7199 : BitVec 32 := Scalar.subi c1_i32_4535 v9
  let arg1 : BitVec 32 := BitVec.ofNat 32 (i 1).val
  let c2_i32_4531 : BitVec 32 := 2#32
  let v7195 : BitVec 32 := Scalar.muli arg1 c2_i32_4531
  let c1_i32_4532 : BitVec 32 := 1#32
  let v7196 : BitVec 32 := Scalar.addi v7195 c1_i32_4532
  let c256_i32_4533 : BitVec 32 := 256#32
  let v7197 : BitVec 32 := Scalar.muli v7196 c256_i32_4533
  let c218_i32_4534 : BitVec 32 := 218#32
  let v7198 : BitVec 32 := Scalar.addi v7197 c218_i32_4534
  let c8_i32_4538 : BitVec 32 := 8#32
  let v7203 : BitVec 32 := Scalar.muli v7198 c8_i32_4538
  let v7204 : BitVec 32 := v7203
  let c0_i32_4539 : BitVec 32 := 0#32
  ![v7199.toNat, v7204.toNat, 0]
def k0_off3969 (v7201 : BitVec 32) : Fin 2 → Nat :=
  let v7202 : BitVec 32 := v7201
  let c0_i32_4540 : BitVec 32 := 0#32
  ![v7202.toNat, 0]

def k0_chk988 (i : grid0.Coords) (v7201 : BitVec 32) : Prop :=
  (∀ (k0_h3 : k0_cond3 i = 1#1), 8 ∣ (k0_mult1975 v7201).toNat) ∧
  (∀ (k0_h3 : k0_cond3 i = 1#1), ∀ a, (k0_off3969 v7201) a + S8x128.size a ≤ S131072x128.size a)
theorem k0_mult1975_dvd : ∀ (i : grid0.Coords) (v7201 : BitVec 32) (k0_hw988 : k0_chk988 i v7201), ∀ (k0_h3 : k0_cond3 i = 1#1), 8 ∣ (k0_mult1975 v7201).toNat := fun i v7201 k0_hw988 k0_h3 => k0_hw988.1 k0_h3
theorem k0_off3969_inb : ∀ (i : grid0.Coords) (v7201 : BitVec 32) (k0_hw988 : k0_chk988 i v7201), ∀ (k0_h3 : k0_cond3 i = 1#1), ∀ a, (k0_off3969 v7201) a + S8x128.size a ≤ S131072x128.size a := fun i v7201 k0_hw988 k0_h3 => k0_hw988.2 k0_h3

def k0_off3970 (i : grid0.Coords) : Fin 3 → Nat :=
  let c0_4546 : Index := 0#32
  let c0_4547 : Index := 0#32
  let arg1 : BitVec 32 := BitVec.ofNat 32 (i 1).val
  let c2_i32_4541 : BitVec 32 := 2#32
  let v7210 : BitVec 32 := Scalar.muli arg1 c2_i32_4541
  let c1_i32_4542 : BitVec 32 := 1#32
  let v7211 : BitVec 32 := Scalar.addi v7210 c1_i32_4542
  let c256_i32_4543 : BitVec 32 := 256#32
  let v7212 : BitVec 32 := Scalar.muli v7211 c256_i32_4543
  let c219_i32_4544 : BitVec 32 := 219#32
  let v7213 : BitVec 32 := Scalar.addi v7212 c219_i32_4544
  let v7215 : Index := Scalar.indexCast v7213
  ![0, 0, v7215.toNat]
def k0_mult1977 (v7216 : BitVec 32) : BitVec 32 :=
  v7216

def k0_mult1978 (i : grid0.Coords) : BitVec 32 :=
  let arg1 : BitVec 32 := BitVec.ofNat 32 (i 1).val
  let c2_i32_4541 : BitVec 32 := 2#32
  let v7210 : BitVec 32 := Scalar.muli arg1 c2_i32_4541
  let c1_i32_4542 : BitVec 32 := 1#32
  let v7211 : BitVec 32 := Scalar.addi v7210 c1_i32_4542
  let c256_i32_4543 : BitVec 32 := 256#32
  let v7212 : BitVec 32 := Scalar.muli v7211 c256_i32_4543
  let c219_i32_4544 : BitVec 32 := 219#32
  let v7213 : BitVec 32 := Scalar.addi v7212 c219_i32_4544
  let c8_i32_4548 : BitVec 32 := 8#32
  let v7218 : BitVec 32 := Scalar.muli v7213 c8_i32_4548
  v7218
def k0_off3971 (i : grid0.Coords) : Fin 1 → Nat :=
  let c1_i32_4545 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7214 : BitVec 32 := Scalar.subi c1_i32_4545 v9
  ![v7214.toNat]
def k0_off3972 (i : grid0.Coords) : Fin 3 → Nat :=
  let c1_i32_4545 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7214 : BitVec 32 := Scalar.subi c1_i32_4545 v9
  let arg1 : BitVec 32 := BitVec.ofNat 32 (i 1).val
  let c2_i32_4541 : BitVec 32 := 2#32
  let v7210 : BitVec 32 := Scalar.muli arg1 c2_i32_4541
  let c1_i32_4542 : BitVec 32 := 1#32
  let v7211 : BitVec 32 := Scalar.addi v7210 c1_i32_4542
  let c256_i32_4543 : BitVec 32 := 256#32
  let v7212 : BitVec 32 := Scalar.muli v7211 c256_i32_4543
  let c219_i32_4544 : BitVec 32 := 219#32
  let v7213 : BitVec 32 := Scalar.addi v7212 c219_i32_4544
  let c8_i32_4548 : BitVec 32 := 8#32
  let v7218 : BitVec 32 := Scalar.muli v7213 c8_i32_4548
  let v7219 : BitVec 32 := v7218
  let c0_i32_4549 : BitVec 32 := 0#32
  ![v7214.toNat, v7219.toNat, 0]
def k0_off3973 (v7216 : BitVec 32) : Fin 2 → Nat :=
  let v7217 : BitVec 32 := v7216
  let c0_i32_4550 : BitVec 32 := 0#32
  ![v7217.toNat, 0]

def k0_chk989 (i : grid0.Coords) (v7216 : BitVec 32) : Prop :=
  (∀ (k0_h3 : k0_cond3 i = 1#1), 8 ∣ (k0_mult1977 v7216).toNat) ∧
  (∀ (k0_h3 : k0_cond3 i = 1#1), ∀ a, (k0_off3973 v7216) a + S8x128.size a ≤ S131072x128.size a)
theorem k0_mult1977_dvd : ∀ (i : grid0.Coords) (v7216 : BitVec 32) (k0_hw989 : k0_chk989 i v7216), ∀ (k0_h3 : k0_cond3 i = 1#1), 8 ∣ (k0_mult1977 v7216).toNat := fun i v7216 k0_hw989 k0_h3 => k0_hw989.1 k0_h3
theorem k0_off3973_inb : ∀ (i : grid0.Coords) (v7216 : BitVec 32) (k0_hw989 : k0_chk989 i v7216), ∀ (k0_h3 : k0_cond3 i = 1#1), ∀ a, (k0_off3973 v7216) a + S8x128.size a ≤ S131072x128.size a := fun i v7216 k0_hw989 k0_h3 => k0_hw989.2 k0_h3

def k0_off3974 (i : grid0.Coords) : Fin 3 → Nat :=
  let c0_4556 : Index := 0#32
  let c0_4557 : Index := 0#32
  let arg1 : BitVec 32 := BitVec.ofNat 32 (i 1).val
  let c2_i32_4551 : BitVec 32 := 2#32
  let v7225 : BitVec 32 := Scalar.muli arg1 c2_i32_4551
  let c1_i32_4552 : BitVec 32 := 1#32
  let v7226 : BitVec 32 := Scalar.addi v7225 c1_i32_4552
  let c256_i32_4553 : BitVec 32 := 256#32
  let v7227 : BitVec 32 := Scalar.muli v7226 c256_i32_4553
  let c220_i32_4554 : BitVec 32 := 220#32
  let v7228 : BitVec 32 := Scalar.addi v7227 c220_i32_4554
  let v7230 : Index := Scalar.indexCast v7228
  ![0, 0, v7230.toNat]
def k0_mult1979 (v7231 : BitVec 32) : BitVec 32 :=
  v7231

def k0_mult1980 (i : grid0.Coords) : BitVec 32 :=
  let arg1 : BitVec 32 := BitVec.ofNat 32 (i 1).val
  let c2_i32_4551 : BitVec 32 := 2#32
  let v7225 : BitVec 32 := Scalar.muli arg1 c2_i32_4551
  let c1_i32_4552 : BitVec 32 := 1#32
  let v7226 : BitVec 32 := Scalar.addi v7225 c1_i32_4552
  let c256_i32_4553 : BitVec 32 := 256#32
  let v7227 : BitVec 32 := Scalar.muli v7226 c256_i32_4553
  let c220_i32_4554 : BitVec 32 := 220#32
  let v7228 : BitVec 32 := Scalar.addi v7227 c220_i32_4554
  let c8_i32_4558 : BitVec 32 := 8#32
  let v7233 : BitVec 32 := Scalar.muli v7228 c8_i32_4558
  v7233
def k0_off3975 (i : grid0.Coords) : Fin 1 → Nat :=
  let c1_i32_4555 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7229 : BitVec 32 := Scalar.subi c1_i32_4555 v9
  ![v7229.toNat]
def k0_off3976 (i : grid0.Coords) : Fin 3 → Nat :=
  let c1_i32_4555 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7229 : BitVec 32 := Scalar.subi c1_i32_4555 v9
  let arg1 : BitVec 32 := BitVec.ofNat 32 (i 1).val
  let c2_i32_4551 : BitVec 32 := 2#32
  let v7225 : BitVec 32 := Scalar.muli arg1 c2_i32_4551
  let c1_i32_4552 : BitVec 32 := 1#32
  let v7226 : BitVec 32 := Scalar.addi v7225 c1_i32_4552
  let c256_i32_4553 : BitVec 32 := 256#32
  let v7227 : BitVec 32 := Scalar.muli v7226 c256_i32_4553
  let c220_i32_4554 : BitVec 32 := 220#32
  let v7228 : BitVec 32 := Scalar.addi v7227 c220_i32_4554
  let c8_i32_4558 : BitVec 32 := 8#32
  let v7233 : BitVec 32 := Scalar.muli v7228 c8_i32_4558
  let v7234 : BitVec 32 := v7233
  let c0_i32_4559 : BitVec 32 := 0#32
  ![v7229.toNat, v7234.toNat, 0]
def k0_off3977 (v7231 : BitVec 32) : Fin 2 → Nat :=
  let v7232 : BitVec 32 := v7231
  let c0_i32_4560 : BitVec 32 := 0#32
  ![v7232.toNat, 0]

def k0_chk990 (i : grid0.Coords) (v7231 : BitVec 32) : Prop :=
  (∀ (k0_h3 : k0_cond3 i = 1#1), 8 ∣ (k0_mult1979 v7231).toNat) ∧
  (∀ (k0_h3 : k0_cond3 i = 1#1), ∀ a, (k0_off3977 v7231) a + S8x128.size a ≤ S131072x128.size a)
theorem k0_mult1979_dvd : ∀ (i : grid0.Coords) (v7231 : BitVec 32) (k0_hw990 : k0_chk990 i v7231), ∀ (k0_h3 : k0_cond3 i = 1#1), 8 ∣ (k0_mult1979 v7231).toNat := fun i v7231 k0_hw990 k0_h3 => k0_hw990.1 k0_h3
theorem k0_off3977_inb : ∀ (i : grid0.Coords) (v7231 : BitVec 32) (k0_hw990 : k0_chk990 i v7231), ∀ (k0_h3 : k0_cond3 i = 1#1), ∀ a, (k0_off3977 v7231) a + S8x128.size a ≤ S131072x128.size a := fun i v7231 k0_hw990 k0_h3 => k0_hw990.2 k0_h3

def k0_off3978 (i : grid0.Coords) : Fin 3 → Nat :=
  let c0_4566 : Index := 0#32
  let c0_4567 : Index := 0#32
  let arg1 : BitVec 32 := BitVec.ofNat 32 (i 1).val
  let c2_i32_4561 : BitVec 32 := 2#32
  let v7240 : BitVec 32 := Scalar.muli arg1 c2_i32_4561
  let c1_i32_4562 : BitVec 32 := 1#32
  let v7241 : BitVec 32 := Scalar.addi v7240 c1_i32_4562
  let c256_i32_4563 : BitVec 32 := 256#32
  let v7242 : BitVec 32 := Scalar.muli v7241 c256_i32_4563
  let c221_i32_4564 : BitVec 32 := 221#32
  let v7243 : BitVec 32 := Scalar.addi v7242 c221_i32_4564
  let v7245 : Index := Scalar.indexCast v7243
  ![0, 0, v7245.toNat]
def k0_mult1981 (v7246 : BitVec 32) : BitVec 32 :=
  v7246

def k0_mult1982 (i : grid0.Coords) : BitVec 32 :=
  let arg1 : BitVec 32 := BitVec.ofNat 32 (i 1).val
  let c2_i32_4561 : BitVec 32 := 2#32
  let v7240 : BitVec 32 := Scalar.muli arg1 c2_i32_4561
  let c1_i32_4562 : BitVec 32 := 1#32
  let v7241 : BitVec 32 := Scalar.addi v7240 c1_i32_4562
  let c256_i32_4563 : BitVec 32 := 256#32
  let v7242 : BitVec 32 := Scalar.muli v7241 c256_i32_4563
  let c221_i32_4564 : BitVec 32 := 221#32
  let v7243 : BitVec 32 := Scalar.addi v7242 c221_i32_4564
  let c8_i32_4568 : BitVec 32 := 8#32
  let v7248 : BitVec 32 := Scalar.muli v7243 c8_i32_4568
  v7248
def k0_off3979 (i : grid0.Coords) : Fin 1 → Nat :=
  let c1_i32_4565 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7244 : BitVec 32 := Scalar.subi c1_i32_4565 v9
  ![v7244.toNat]
def k0_off3980 (i : grid0.Coords) : Fin 3 → Nat :=
  let c1_i32_4565 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7244 : BitVec 32 := Scalar.subi c1_i32_4565 v9
  let arg1 : BitVec 32 := BitVec.ofNat 32 (i 1).val
  let c2_i32_4561 : BitVec 32 := 2#32
  let v7240 : BitVec 32 := Scalar.muli arg1 c2_i32_4561
  let c1_i32_4562 : BitVec 32 := 1#32
  let v7241 : BitVec 32 := Scalar.addi v7240 c1_i32_4562
  let c256_i32_4563 : BitVec 32 := 256#32
  let v7242 : BitVec 32 := Scalar.muli v7241 c256_i32_4563
  let c221_i32_4564 : BitVec 32 := 221#32
  let v7243 : BitVec 32 := Scalar.addi v7242 c221_i32_4564
  let c8_i32_4568 : BitVec 32 := 8#32
  let v7248 : BitVec 32 := Scalar.muli v7243 c8_i32_4568
  let v7249 : BitVec 32 := v7248
  let c0_i32_4569 : BitVec 32 := 0#32
  ![v7244.toNat, v7249.toNat, 0]
def k0_off3981 (v7246 : BitVec 32) : Fin 2 → Nat :=
  let v7247 : BitVec 32 := v7246
  let c0_i32_4570 : BitVec 32 := 0#32
  ![v7247.toNat, 0]

def k0_chk991 (i : grid0.Coords) (v7246 : BitVec 32) : Prop :=
  (∀ (k0_h3 : k0_cond3 i = 1#1), 8 ∣ (k0_mult1981 v7246).toNat) ∧
  (∀ (k0_h3 : k0_cond3 i = 1#1), ∀ a, (k0_off3981 v7246) a + S8x128.size a ≤ S131072x128.size a)
theorem k0_mult1981_dvd : ∀ (i : grid0.Coords) (v7246 : BitVec 32) (k0_hw991 : k0_chk991 i v7246), ∀ (k0_h3 : k0_cond3 i = 1#1), 8 ∣ (k0_mult1981 v7246).toNat := fun i v7246 k0_hw991 k0_h3 => k0_hw991.1 k0_h3
theorem k0_off3981_inb : ∀ (i : grid0.Coords) (v7246 : BitVec 32) (k0_hw991 : k0_chk991 i v7246), ∀ (k0_h3 : k0_cond3 i = 1#1), ∀ a, (k0_off3981 v7246) a + S8x128.size a ≤ S131072x128.size a := fun i v7246 k0_hw991 k0_h3 => k0_hw991.2 k0_h3

def k0_off3982 (i : grid0.Coords) : Fin 3 → Nat :=
  let c0_4576 : Index := 0#32
  let c0_4577 : Index := 0#32
  let arg1 : BitVec 32 := BitVec.ofNat 32 (i 1).val
  let c2_i32_4571 : BitVec 32 := 2#32
  let v7255 : BitVec 32 := Scalar.muli arg1 c2_i32_4571
  let c1_i32_4572 : BitVec 32 := 1#32
  let v7256 : BitVec 32 := Scalar.addi v7255 c1_i32_4572
  let c256_i32_4573 : BitVec 32 := 256#32
  let v7257 : BitVec 32 := Scalar.muli v7256 c256_i32_4573
  let c222_i32_4574 : BitVec 32 := 222#32
  let v7258 : BitVec 32 := Scalar.addi v7257 c222_i32_4574
  let v7260 : Index := Scalar.indexCast v7258
  ![0, 0, v7260.toNat]
def k0_mult1983 (v7261 : BitVec 32) : BitVec 32 :=
  v7261

def k0_mult1984 (i : grid0.Coords) : BitVec 32 :=
  let arg1 : BitVec 32 := BitVec.ofNat 32 (i 1).val
  let c2_i32_4571 : BitVec 32 := 2#32
  let v7255 : BitVec 32 := Scalar.muli arg1 c2_i32_4571
  let c1_i32_4572 : BitVec 32 := 1#32
  let v7256 : BitVec 32 := Scalar.addi v7255 c1_i32_4572
  let c256_i32_4573 : BitVec 32 := 256#32
  let v7257 : BitVec 32 := Scalar.muli v7256 c256_i32_4573
  let c222_i32_4574 : BitVec 32 := 222#32
  let v7258 : BitVec 32 := Scalar.addi v7257 c222_i32_4574
  let c8_i32_4578 : BitVec 32 := 8#32
  let v7263 : BitVec 32 := Scalar.muli v7258 c8_i32_4578
  v7263
def k0_off3983 (i : grid0.Coords) : Fin 1 → Nat :=
  let c1_i32_4575 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7259 : BitVec 32 := Scalar.subi c1_i32_4575 v9
  ![v7259.toNat]
def k0_off3984 (i : grid0.Coords) : Fin 3 → Nat :=
  let c1_i32_4575 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7259 : BitVec 32 := Scalar.subi c1_i32_4575 v9
  let arg1 : BitVec 32 := BitVec.ofNat 32 (i 1).val
  let c2_i32_4571 : BitVec 32 := 2#32
  let v7255 : BitVec 32 := Scalar.muli arg1 c2_i32_4571
  let c1_i32_4572 : BitVec 32 := 1#32
  let v7256 : BitVec 32 := Scalar.addi v7255 c1_i32_4572
  let c256_i32_4573 : BitVec 32 := 256#32
  let v7257 : BitVec 32 := Scalar.muli v7256 c256_i32_4573
  let c222_i32_4574 : BitVec 32 := 222#32
  let v7258 : BitVec 32 := Scalar.addi v7257 c222_i32_4574
  let c8_i32_4578 : BitVec 32 := 8#32
  let v7263 : BitVec 32 := Scalar.muli v7258 c8_i32_4578
  let v7264 : BitVec 32 := v7263
  let c0_i32_4579 : BitVec 32 := 0#32
  ![v7259.toNat, v7264.toNat, 0]
def k0_off3985 (v7261 : BitVec 32) : Fin 2 → Nat :=
  let v7262 : BitVec 32 := v7261
  let c0_i32_4580 : BitVec 32 := 0#32
  ![v7262.toNat, 0]

def k0_chk992 (i : grid0.Coords) (v7261 : BitVec 32) : Prop :=
  (∀ (k0_h3 : k0_cond3 i = 1#1), 8 ∣ (k0_mult1983 v7261).toNat) ∧
  (∀ (k0_h3 : k0_cond3 i = 1#1), ∀ a, (k0_off3985 v7261) a + S8x128.size a ≤ S131072x128.size a)
theorem k0_mult1983_dvd : ∀ (i : grid0.Coords) (v7261 : BitVec 32) (k0_hw992 : k0_chk992 i v7261), ∀ (k0_h3 : k0_cond3 i = 1#1), 8 ∣ (k0_mult1983 v7261).toNat := fun i v7261 k0_hw992 k0_h3 => k0_hw992.1 k0_h3
theorem k0_off3985_inb : ∀ (i : grid0.Coords) (v7261 : BitVec 32) (k0_hw992 : k0_chk992 i v7261), ∀ (k0_h3 : k0_cond3 i = 1#1), ∀ a, (k0_off3985 v7261) a + S8x128.size a ≤ S131072x128.size a := fun i v7261 k0_hw992 k0_h3 => k0_hw992.2 k0_h3

def k0_off3986 (i : grid0.Coords) : Fin 3 → Nat :=
  let c0_4586 : Index := 0#32
  let c0_4587 : Index := 0#32
  let arg1 : BitVec 32 := BitVec.ofNat 32 (i 1).val
  let c2_i32_4581 : BitVec 32 := 2#32
  let v7270 : BitVec 32 := Scalar.muli arg1 c2_i32_4581
  let c1_i32_4582 : BitVec 32 := 1#32
  let v7271 : BitVec 32 := Scalar.addi v7270 c1_i32_4582
  let c256_i32_4583 : BitVec 32 := 256#32
  let v7272 : BitVec 32 := Scalar.muli v7271 c256_i32_4583
  let c223_i32_4584 : BitVec 32 := 223#32
  let v7273 : BitVec 32 := Scalar.addi v7272 c223_i32_4584
  let v7275 : Index := Scalar.indexCast v7273
  ![0, 0, v7275.toNat]
def k0_mult1985 (v7276 : BitVec 32) : BitVec 32 :=
  v7276

def k0_mult1986 (i : grid0.Coords) : BitVec 32 :=
  let arg1 : BitVec 32 := BitVec.ofNat 32 (i 1).val
  let c2_i32_4581 : BitVec 32 := 2#32
  let v7270 : BitVec 32 := Scalar.muli arg1 c2_i32_4581
  let c1_i32_4582 : BitVec 32 := 1#32
  let v7271 : BitVec 32 := Scalar.addi v7270 c1_i32_4582
  let c256_i32_4583 : BitVec 32 := 256#32
  let v7272 : BitVec 32 := Scalar.muli v7271 c256_i32_4583
  let c223_i32_4584 : BitVec 32 := 223#32
  let v7273 : BitVec 32 := Scalar.addi v7272 c223_i32_4584
  let c8_i32_4588 : BitVec 32 := 8#32
  let v7278 : BitVec 32 := Scalar.muli v7273 c8_i32_4588
  v7278
def k0_off3987 (i : grid0.Coords) : Fin 1 → Nat :=
  let c1_i32_4585 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7274 : BitVec 32 := Scalar.subi c1_i32_4585 v9
  ![v7274.toNat]
def k0_off3988 (i : grid0.Coords) : Fin 3 → Nat :=
  let c1_i32_4585 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7274 : BitVec 32 := Scalar.subi c1_i32_4585 v9
  let arg1 : BitVec 32 := BitVec.ofNat 32 (i 1).val
  let c2_i32_4581 : BitVec 32 := 2#32
  let v7270 : BitVec 32 := Scalar.muli arg1 c2_i32_4581
  let c1_i32_4582 : BitVec 32 := 1#32
  let v7271 : BitVec 32 := Scalar.addi v7270 c1_i32_4582
  let c256_i32_4583 : BitVec 32 := 256#32
  let v7272 : BitVec 32 := Scalar.muli v7271 c256_i32_4583
  let c223_i32_4584 : BitVec 32 := 223#32
  let v7273 : BitVec 32 := Scalar.addi v7272 c223_i32_4584
  let c8_i32_4588 : BitVec 32 := 8#32
  let v7278 : BitVec 32 := Scalar.muli v7273 c8_i32_4588
  let v7279 : BitVec 32 := v7278
  let c0_i32_4589 : BitVec 32 := 0#32
  ![v7274.toNat, v7279.toNat, 0]
def k0_off3989 (v7276 : BitVec 32) : Fin 2 → Nat :=
  let v7277 : BitVec 32 := v7276
  let c0_i32_4590 : BitVec 32 := 0#32
  ![v7277.toNat, 0]

def k0_chk993 (i : grid0.Coords) (v7276 : BitVec 32) : Prop :=
  (∀ (k0_h3 : k0_cond3 i = 1#1), 8 ∣ (k0_mult1985 v7276).toNat) ∧
  (∀ (k0_h3 : k0_cond3 i = 1#1), ∀ a, (k0_off3989 v7276) a + S8x128.size a ≤ S131072x128.size a)
theorem k0_mult1985_dvd : ∀ (i : grid0.Coords) (v7276 : BitVec 32) (k0_hw993 : k0_chk993 i v7276), ∀ (k0_h3 : k0_cond3 i = 1#1), 8 ∣ (k0_mult1985 v7276).toNat := fun i v7276 k0_hw993 k0_h3 => k0_hw993.1 k0_h3
theorem k0_off3989_inb : ∀ (i : grid0.Coords) (v7276 : BitVec 32) (k0_hw993 : k0_chk993 i v7276), ∀ (k0_h3 : k0_cond3 i = 1#1), ∀ a, (k0_off3989 v7276) a + S8x128.size a ≤ S131072x128.size a := fun i v7276 k0_hw993 k0_h3 => k0_hw993.2 k0_h3

def k0_off3990 (i : grid0.Coords) : Fin 3 → Nat :=
  let c0_4596 : Index := 0#32
  let c0_4597 : Index := 0#32
  let arg1 : BitVec 32 := BitVec.ofNat 32 (i 1).val
  let c2_i32_4591 : BitVec 32 := 2#32
  let v7285 : BitVec 32 := Scalar.muli arg1 c2_i32_4591
  let c1_i32_4592 : BitVec 32 := 1#32
  let v7286 : BitVec 32 := Scalar.addi v7285 c1_i32_4592
  let c256_i32_4593 : BitVec 32 := 256#32
  let v7287 : BitVec 32 := Scalar.muli v7286 c256_i32_4593
  let c224_i32_4594 : BitVec 32 := 224#32
  let v7288 : BitVec 32 := Scalar.addi v7287 c224_i32_4594
  let v7290 : Index := Scalar.indexCast v7288
  ![0, 0, v7290.toNat]
def k0_mult1987 (v7291 : BitVec 32) : BitVec 32 :=
  v7291

def k0_mult1988 (i : grid0.Coords) : BitVec 32 :=
  let arg1 : BitVec 32 := BitVec.ofNat 32 (i 1).val
  let c2_i32_4591 : BitVec 32 := 2#32
  let v7285 : BitVec 32 := Scalar.muli arg1 c2_i32_4591
  let c1_i32_4592 : BitVec 32 := 1#32
  let v7286 : BitVec 32 := Scalar.addi v7285 c1_i32_4592
  let c256_i32_4593 : BitVec 32 := 256#32
  let v7287 : BitVec 32 := Scalar.muli v7286 c256_i32_4593
  let c224_i32_4594 : BitVec 32 := 224#32
  let v7288 : BitVec 32 := Scalar.addi v7287 c224_i32_4594
  let c8_i32_4598 : BitVec 32 := 8#32
  let v7293 : BitVec 32 := Scalar.muli v7288 c8_i32_4598
  v7293
def k0_off3991 (i : grid0.Coords) : Fin 1 → Nat :=
  let c1_i32_4595 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7289 : BitVec 32 := Scalar.subi c1_i32_4595 v9
  ![v7289.toNat]
def k0_off3992 (i : grid0.Coords) : Fin 3 → Nat :=
  let c1_i32_4595 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7289 : BitVec 32 := Scalar.subi c1_i32_4595 v9
  let arg1 : BitVec 32 := BitVec.ofNat 32 (i 1).val
  let c2_i32_4591 : BitVec 32 := 2#32
  let v7285 : BitVec 32 := Scalar.muli arg1 c2_i32_4591
  let c1_i32_4592 : BitVec 32 := 1#32
  let v7286 : BitVec 32 := Scalar.addi v7285 c1_i32_4592
  let c256_i32_4593 : BitVec 32 := 256#32
  let v7287 : BitVec 32 := Scalar.muli v7286 c256_i32_4593
  let c224_i32_4594 : BitVec 32 := 224#32
  let v7288 : BitVec 32 := Scalar.addi v7287 c224_i32_4594
  let c8_i32_4598 : BitVec 32 := 8#32
  let v7293 : BitVec 32 := Scalar.muli v7288 c8_i32_4598
  let v7294 : BitVec 32 := v7293
  let c0_i32_4599 : BitVec 32 := 0#32
  ![v7289.toNat, v7294.toNat, 0]
def k0_off3993 (v7291 : BitVec 32) : Fin 2 → Nat :=
  let v7292 : BitVec 32 := v7291
  let c0_i32_4600 : BitVec 32 := 0#32
  ![v7292.toNat, 0]

def k0_chk994 (i : grid0.Coords) (v7291 : BitVec 32) : Prop :=
  (∀ (k0_h3 : k0_cond3 i = 1#1), 8 ∣ (k0_mult1987 v7291).toNat) ∧
  (∀ (k0_h3 : k0_cond3 i = 1#1), ∀ a, (k0_off3993 v7291) a + S8x128.size a ≤ S131072x128.size a)
theorem k0_mult1987_dvd : ∀ (i : grid0.Coords) (v7291 : BitVec 32) (k0_hw994 : k0_chk994 i v7291), ∀ (k0_h3 : k0_cond3 i = 1#1), 8 ∣ (k0_mult1987 v7291).toNat := fun i v7291 k0_hw994 k0_h3 => k0_hw994.1 k0_h3
theorem k0_off3993_inb : ∀ (i : grid0.Coords) (v7291 : BitVec 32) (k0_hw994 : k0_chk994 i v7291), ∀ (k0_h3 : k0_cond3 i = 1#1), ∀ a, (k0_off3993 v7291) a + S8x128.size a ≤ S131072x128.size a := fun i v7291 k0_hw994 k0_h3 => k0_hw994.2 k0_h3

def k0_off3994 (i : grid0.Coords) : Fin 3 → Nat :=
  let c0_4606 : Index := 0#32
  let c0_4607 : Index := 0#32
  let arg1 : BitVec 32 := BitVec.ofNat 32 (i 1).val
  let c2_i32_4601 : BitVec 32 := 2#32
  let v7300 : BitVec 32 := Scalar.muli arg1 c2_i32_4601
  let c1_i32_4602 : BitVec 32 := 1#32
  let v7301 : BitVec 32 := Scalar.addi v7300 c1_i32_4602
  let c256_i32_4603 : BitVec 32 := 256#32
  let v7302 : BitVec 32 := Scalar.muli v7301 c256_i32_4603
  let c225_i32_4604 : BitVec 32 := 225#32
  let v7303 : BitVec 32 := Scalar.addi v7302 c225_i32_4604
  let v7305 : Index := Scalar.indexCast v7303
  ![0, 0, v7305.toNat]
def k0_mult1989 (v7306 : BitVec 32) : BitVec 32 :=
  v7306

def k0_mult1990 (i : grid0.Coords) : BitVec 32 :=
  let arg1 : BitVec 32 := BitVec.ofNat 32 (i 1).val
  let c2_i32_4601 : BitVec 32 := 2#32
  let v7300 : BitVec 32 := Scalar.muli arg1 c2_i32_4601
  let c1_i32_4602 : BitVec 32 := 1#32
  let v7301 : BitVec 32 := Scalar.addi v7300 c1_i32_4602
  let c256_i32_4603 : BitVec 32 := 256#32
  let v7302 : BitVec 32 := Scalar.muli v7301 c256_i32_4603
  let c225_i32_4604 : BitVec 32 := 225#32
  let v7303 : BitVec 32 := Scalar.addi v7302 c225_i32_4604
  let c8_i32_4608 : BitVec 32 := 8#32
  let v7308 : BitVec 32 := Scalar.muli v7303 c8_i32_4608
  v7308
def k0_off3995 (i : grid0.Coords) : Fin 1 → Nat :=
  let c1_i32_4605 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7304 : BitVec 32 := Scalar.subi c1_i32_4605 v9
  ![v7304.toNat]
def k0_off3996 (i : grid0.Coords) : Fin 3 → Nat :=
  let c1_i32_4605 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7304 : BitVec 32 := Scalar.subi c1_i32_4605 v9
  let arg1 : BitVec 32 := BitVec.ofNat 32 (i 1).val
  let c2_i32_4601 : BitVec 32 := 2#32
  let v7300 : BitVec 32 := Scalar.muli arg1 c2_i32_4601
  let c1_i32_4602 : BitVec 32 := 1#32
  let v7301 : BitVec 32 := Scalar.addi v7300 c1_i32_4602
  let c256_i32_4603 : BitVec 32 := 256#32
  let v7302 : BitVec 32 := Scalar.muli v7301 c256_i32_4603
  let c225_i32_4604 : BitVec 32 := 225#32
  let v7303 : BitVec 32 := Scalar.addi v7302 c225_i32_4604
  let c8_i32_4608 : BitVec 32 := 8#32
  let v7308 : BitVec 32 := Scalar.muli v7303 c8_i32_4608
  let v7309 : BitVec 32 := v7308
  let c0_i32_4609 : BitVec 32 := 0#32
  ![v7304.toNat, v7309.toNat, 0]
def k0_off3997 (v7306 : BitVec 32) : Fin 2 → Nat :=
  let v7307 : BitVec 32 := v7306
  let c0_i32_4610 : BitVec 32 := 0#32
  ![v7307.toNat, 0]

def k0_chk995 (i : grid0.Coords) (v7306 : BitVec 32) : Prop :=
  (∀ (k0_h3 : k0_cond3 i = 1#1), 8 ∣ (k0_mult1989 v7306).toNat) ∧
  (∀ (k0_h3 : k0_cond3 i = 1#1), ∀ a, (k0_off3997 v7306) a + S8x128.size a ≤ S131072x128.size a)
theorem k0_mult1989_dvd : ∀ (i : grid0.Coords) (v7306 : BitVec 32) (k0_hw995 : k0_chk995 i v7306), ∀ (k0_h3 : k0_cond3 i = 1#1), 8 ∣ (k0_mult1989 v7306).toNat := fun i v7306 k0_hw995 k0_h3 => k0_hw995.1 k0_h3
theorem k0_off3997_inb : ∀ (i : grid0.Coords) (v7306 : BitVec 32) (k0_hw995 : k0_chk995 i v7306), ∀ (k0_h3 : k0_cond3 i = 1#1), ∀ a, (k0_off3997 v7306) a + S8x128.size a ≤ S131072x128.size a := fun i v7306 k0_hw995 k0_h3 => k0_hw995.2 k0_h3

def k0_off3998 (i : grid0.Coords) : Fin 3 → Nat :=
  let c0_4616 : Index := 0#32
  let c0_4617 : Index := 0#32
  let arg1 : BitVec 32 := BitVec.ofNat 32 (i 1).val
  let c2_i32_4611 : BitVec 32 := 2#32
  let v7315 : BitVec 32 := Scalar.muli arg1 c2_i32_4611
  let c1_i32_4612 : BitVec 32 := 1#32
  let v7316 : BitVec 32 := Scalar.addi v7315 c1_i32_4612
  let c256_i32_4613 : BitVec 32 := 256#32
  let v7317 : BitVec 32 := Scalar.muli v7316 c256_i32_4613
  let c226_i32_4614 : BitVec 32 := 226#32
  let v7318 : BitVec 32 := Scalar.addi v7317 c226_i32_4614
  let v7320 : Index := Scalar.indexCast v7318
  ![0, 0, v7320.toNat]
def k0_mult1991 (v7321 : BitVec 32) : BitVec 32 :=
  v7321

def k0_mult1992 (i : grid0.Coords) : BitVec 32 :=
  let arg1 : BitVec 32 := BitVec.ofNat 32 (i 1).val
  let c2_i32_4611 : BitVec 32 := 2#32
  let v7315 : BitVec 32 := Scalar.muli arg1 c2_i32_4611
  let c1_i32_4612 : BitVec 32 := 1#32
  let v7316 : BitVec 32 := Scalar.addi v7315 c1_i32_4612
  let c256_i32_4613 : BitVec 32 := 256#32
  let v7317 : BitVec 32 := Scalar.muli v7316 c256_i32_4613
  let c226_i32_4614 : BitVec 32 := 226#32
  let v7318 : BitVec 32 := Scalar.addi v7317 c226_i32_4614
  let c8_i32_4618 : BitVec 32 := 8#32
  let v7323 : BitVec 32 := Scalar.muli v7318 c8_i32_4618
  v7323
def k0_off3999 (i : grid0.Coords) : Fin 1 → Nat :=
  let c1_i32_4615 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7319 : BitVec 32 := Scalar.subi c1_i32_4615 v9
  ![v7319.toNat]
def k0_off4000 (i : grid0.Coords) : Fin 3 → Nat :=
  let c1_i32_4615 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7319 : BitVec 32 := Scalar.subi c1_i32_4615 v9
  let arg1 : BitVec 32 := BitVec.ofNat 32 (i 1).val
  let c2_i32_4611 : BitVec 32 := 2#32
  let v7315 : BitVec 32 := Scalar.muli arg1 c2_i32_4611
  let c1_i32_4612 : BitVec 32 := 1#32
  let v7316 : BitVec 32 := Scalar.addi v7315 c1_i32_4612
  let c256_i32_4613 : BitVec 32 := 256#32
  let v7317 : BitVec 32 := Scalar.muli v7316 c256_i32_4613
  let c226_i32_4614 : BitVec 32 := 226#32
  let v7318 : BitVec 32 := Scalar.addi v7317 c226_i32_4614
  let c8_i32_4618 : BitVec 32 := 8#32
  let v7323 : BitVec 32 := Scalar.muli v7318 c8_i32_4618
  let v7324 : BitVec 32 := v7323
  let c0_i32_4619 : BitVec 32 := 0#32
  ![v7319.toNat, v7324.toNat, 0]
def k0_off4001 (v7321 : BitVec 32) : Fin 2 → Nat :=
  let v7322 : BitVec 32 := v7321
  let c0_i32_4620 : BitVec 32 := 0#32
  ![v7322.toNat, 0]

def k0_chk996 (i : grid0.Coords) (v7321 : BitVec 32) : Prop :=
  (∀ (k0_h3 : k0_cond3 i = 1#1), 8 ∣ (k0_mult1991 v7321).toNat) ∧
  (∀ (k0_h3 : k0_cond3 i = 1#1), ∀ a, (k0_off4001 v7321) a + S8x128.size a ≤ S131072x128.size a)
theorem k0_mult1991_dvd : ∀ (i : grid0.Coords) (v7321 : BitVec 32) (k0_hw996 : k0_chk996 i v7321), ∀ (k0_h3 : k0_cond3 i = 1#1), 8 ∣ (k0_mult1991 v7321).toNat := fun i v7321 k0_hw996 k0_h3 => k0_hw996.1 k0_h3
theorem k0_off4001_inb : ∀ (i : grid0.Coords) (v7321 : BitVec 32) (k0_hw996 : k0_chk996 i v7321), ∀ (k0_h3 : k0_cond3 i = 1#1), ∀ a, (k0_off4001 v7321) a + S8x128.size a ≤ S131072x128.size a := fun i v7321 k0_hw996 k0_h3 => k0_hw996.2 k0_h3

def k0_off4002 (i : grid0.Coords) : Fin 3 → Nat :=
  let c0_4626 : Index := 0#32
  let c0_4627 : Index := 0#32
  let arg1 : BitVec 32 := BitVec.ofNat 32 (i 1).val
  let c2_i32_4621 : BitVec 32 := 2#32
  let v7330 : BitVec 32 := Scalar.muli arg1 c2_i32_4621
  let c1_i32_4622 : BitVec 32 := 1#32
  let v7331 : BitVec 32 := Scalar.addi v7330 c1_i32_4622
  let c256_i32_4623 : BitVec 32 := 256#32
  let v7332 : BitVec 32 := Scalar.muli v7331 c256_i32_4623
  let c227_i32_4624 : BitVec 32 := 227#32
  let v7333 : BitVec 32 := Scalar.addi v7332 c227_i32_4624
  let v7335 : Index := Scalar.indexCast v7333
  ![0, 0, v7335.toNat]
def k0_mult1993 (v7336 : BitVec 32) : BitVec 32 :=
  v7336

def k0_mult1994 (i : grid0.Coords) : BitVec 32 :=
  let arg1 : BitVec 32 := BitVec.ofNat 32 (i 1).val
  let c2_i32_4621 : BitVec 32 := 2#32
  let v7330 : BitVec 32 := Scalar.muli arg1 c2_i32_4621
  let c1_i32_4622 : BitVec 32 := 1#32
  let v7331 : BitVec 32 := Scalar.addi v7330 c1_i32_4622
  let c256_i32_4623 : BitVec 32 := 256#32
  let v7332 : BitVec 32 := Scalar.muli v7331 c256_i32_4623
  let c227_i32_4624 : BitVec 32 := 227#32
  let v7333 : BitVec 32 := Scalar.addi v7332 c227_i32_4624
  let c8_i32_4628 : BitVec 32 := 8#32
  let v7338 : BitVec 32 := Scalar.muli v7333 c8_i32_4628
  v7338
def k0_off4003 (i : grid0.Coords) : Fin 1 → Nat :=
  let c1_i32_4625 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7334 : BitVec 32 := Scalar.subi c1_i32_4625 v9
  ![v7334.toNat]
def k0_off4004 (i : grid0.Coords) : Fin 3 → Nat :=
  let c1_i32_4625 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7334 : BitVec 32 := Scalar.subi c1_i32_4625 v9
  let arg1 : BitVec 32 := BitVec.ofNat 32 (i 1).val
  let c2_i32_4621 : BitVec 32 := 2#32
  let v7330 : BitVec 32 := Scalar.muli arg1 c2_i32_4621
  let c1_i32_4622 : BitVec 32 := 1#32
  let v7331 : BitVec 32 := Scalar.addi v7330 c1_i32_4622
  let c256_i32_4623 : BitVec 32 := 256#32
  let v7332 : BitVec 32 := Scalar.muli v7331 c256_i32_4623
  let c227_i32_4624 : BitVec 32 := 227#32
  let v7333 : BitVec 32 := Scalar.addi v7332 c227_i32_4624
  let c8_i32_4628 : BitVec 32 := 8#32
  let v7338 : BitVec 32 := Scalar.muli v7333 c8_i32_4628
  let v7339 : BitVec 32 := v7338
  let c0_i32_4629 : BitVec 32 := 0#32
  ![v7334.toNat, v7339.toNat, 0]
def k0_off4005 (v7336 : BitVec 32) : Fin 2 → Nat :=
  let v7337 : BitVec 32 := v7336
  let c0_i32_4630 : BitVec 32 := 0#32
  ![v7337.toNat, 0]

def k0_chk997 (i : grid0.Coords) (v7336 : BitVec 32) : Prop :=
  (∀ (k0_h3 : k0_cond3 i = 1#1), 8 ∣ (k0_mult1993 v7336).toNat) ∧
  (∀ (k0_h3 : k0_cond3 i = 1#1), ∀ a, (k0_off4005 v7336) a + S8x128.size a ≤ S131072x128.size a)
theorem k0_mult1993_dvd : ∀ (i : grid0.Coords) (v7336 : BitVec 32) (k0_hw997 : k0_chk997 i v7336), ∀ (k0_h3 : k0_cond3 i = 1#1), 8 ∣ (k0_mult1993 v7336).toNat := fun i v7336 k0_hw997 k0_h3 => k0_hw997.1 k0_h3
theorem k0_off4005_inb : ∀ (i : grid0.Coords) (v7336 : BitVec 32) (k0_hw997 : k0_chk997 i v7336), ∀ (k0_h3 : k0_cond3 i = 1#1), ∀ a, (k0_off4005 v7336) a + S8x128.size a ≤ S131072x128.size a := fun i v7336 k0_hw997 k0_h3 => k0_hw997.2 k0_h3

def k0_off4006 (i : grid0.Coords) : Fin 3 → Nat :=
  let c0_4636 : Index := 0#32
  let c0_4637 : Index := 0#32
  let arg1 : BitVec 32 := BitVec.ofNat 32 (i 1).val
  let c2_i32_4631 : BitVec 32 := 2#32
  let v7345 : BitVec 32 := Scalar.muli arg1 c2_i32_4631
  let c1_i32_4632 : BitVec 32 := 1#32
  let v7346 : BitVec 32 := Scalar.addi v7345 c1_i32_4632
  let c256_i32_4633 : BitVec 32 := 256#32
  let v7347 : BitVec 32 := Scalar.muli v7346 c256_i32_4633
  let c228_i32_4634 : BitVec 32 := 228#32
  let v7348 : BitVec 32 := Scalar.addi v7347 c228_i32_4634
  let v7350 : Index := Scalar.indexCast v7348
  ![0, 0, v7350.toNat]
def k0_mult1995 (v7351 : BitVec 32) : BitVec 32 :=
  v7351

def k0_mult1996 (i : grid0.Coords) : BitVec 32 :=
  let arg1 : BitVec 32 := BitVec.ofNat 32 (i 1).val
  let c2_i32_4631 : BitVec 32 := 2#32
  let v7345 : BitVec 32 := Scalar.muli arg1 c2_i32_4631
  let c1_i32_4632 : BitVec 32 := 1#32
  let v7346 : BitVec 32 := Scalar.addi v7345 c1_i32_4632
  let c256_i32_4633 : BitVec 32 := 256#32
  let v7347 : BitVec 32 := Scalar.muli v7346 c256_i32_4633
  let c228_i32_4634 : BitVec 32 := 228#32
  let v7348 : BitVec 32 := Scalar.addi v7347 c228_i32_4634
  let c8_i32_4638 : BitVec 32 := 8#32
  let v7353 : BitVec 32 := Scalar.muli v7348 c8_i32_4638
  v7353
def k0_off4007 (i : grid0.Coords) : Fin 1 → Nat :=
  let c1_i32_4635 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7349 : BitVec 32 := Scalar.subi c1_i32_4635 v9
  ![v7349.toNat]
def k0_off4008 (i : grid0.Coords) : Fin 3 → Nat :=
  let c1_i32_4635 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7349 : BitVec 32 := Scalar.subi c1_i32_4635 v9
  let arg1 : BitVec 32 := BitVec.ofNat 32 (i 1).val
  let c2_i32_4631 : BitVec 32 := 2#32
  let v7345 : BitVec 32 := Scalar.muli arg1 c2_i32_4631
  let c1_i32_4632 : BitVec 32 := 1#32
  let v7346 : BitVec 32 := Scalar.addi v7345 c1_i32_4632
  let c256_i32_4633 : BitVec 32 := 256#32
  let v7347 : BitVec 32 := Scalar.muli v7346 c256_i32_4633
  let c228_i32_4634 : BitVec 32 := 228#32
  let v7348 : BitVec 32 := Scalar.addi v7347 c228_i32_4634
  let c8_i32_4638 : BitVec 32 := 8#32
  let v7353 : BitVec 32 := Scalar.muli v7348 c8_i32_4638
  let v7354 : BitVec 32 := v7353
  let c0_i32_4639 : BitVec 32 := 0#32
  ![v7349.toNat, v7354.toNat, 0]
def k0_off4009 (v7351 : BitVec 32) : Fin 2 → Nat :=
  let v7352 : BitVec 32 := v7351
  let c0_i32_4640 : BitVec 32 := 0#32
  ![v7352.toNat, 0]

def k0_chk998 (i : grid0.Coords) (v7351 : BitVec 32) : Prop :=
  (∀ (k0_h3 : k0_cond3 i = 1#1), 8 ∣ (k0_mult1995 v7351).toNat) ∧
  (∀ (k0_h3 : k0_cond3 i = 1#1), ∀ a, (k0_off4009 v7351) a + S8x128.size a ≤ S131072x128.size a)
theorem k0_mult1995_dvd : ∀ (i : grid0.Coords) (v7351 : BitVec 32) (k0_hw998 : k0_chk998 i v7351), ∀ (k0_h3 : k0_cond3 i = 1#1), 8 ∣ (k0_mult1995 v7351).toNat := fun i v7351 k0_hw998 k0_h3 => k0_hw998.1 k0_h3
theorem k0_off4009_inb : ∀ (i : grid0.Coords) (v7351 : BitVec 32) (k0_hw998 : k0_chk998 i v7351), ∀ (k0_h3 : k0_cond3 i = 1#1), ∀ a, (k0_off4009 v7351) a + S8x128.size a ≤ S131072x128.size a := fun i v7351 k0_hw998 k0_h3 => k0_hw998.2 k0_h3

def k0_off4010 (i : grid0.Coords) : Fin 3 → Nat :=
  let c0_4646 : Index := 0#32
  let c0_4647 : Index := 0#32
  let arg1 : BitVec 32 := BitVec.ofNat 32 (i 1).val
  let c2_i32_4641 : BitVec 32 := 2#32
  let v7360 : BitVec 32 := Scalar.muli arg1 c2_i32_4641
  let c1_i32_4642 : BitVec 32 := 1#32
  let v7361 : BitVec 32 := Scalar.addi v7360 c1_i32_4642
  let c256_i32_4643 : BitVec 32 := 256#32
  let v7362 : BitVec 32 := Scalar.muli v7361 c256_i32_4643
  let c229_i32_4644 : BitVec 32 := 229#32
  let v7363 : BitVec 32 := Scalar.addi v7362 c229_i32_4644
  let v7365 : Index := Scalar.indexCast v7363
  ![0, 0, v7365.toNat]
def k0_mult1997 (v7366 : BitVec 32) : BitVec 32 :=
  v7366

def k0_mult1998 (i : grid0.Coords) : BitVec 32 :=
  let arg1 : BitVec 32 := BitVec.ofNat 32 (i 1).val
  let c2_i32_4641 : BitVec 32 := 2#32
  let v7360 : BitVec 32 := Scalar.muli arg1 c2_i32_4641
  let c1_i32_4642 : BitVec 32 := 1#32
  let v7361 : BitVec 32 := Scalar.addi v7360 c1_i32_4642
  let c256_i32_4643 : BitVec 32 := 256#32
  let v7362 : BitVec 32 := Scalar.muli v7361 c256_i32_4643
  let c229_i32_4644 : BitVec 32 := 229#32
  let v7363 : BitVec 32 := Scalar.addi v7362 c229_i32_4644
  let c8_i32_4648 : BitVec 32 := 8#32
  let v7368 : BitVec 32 := Scalar.muli v7363 c8_i32_4648
  v7368
def k0_off4011 (i : grid0.Coords) : Fin 1 → Nat :=
  let c1_i32_4645 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7364 : BitVec 32 := Scalar.subi c1_i32_4645 v9
  ![v7364.toNat]
def k0_off4012 (i : grid0.Coords) : Fin 3 → Nat :=
  let c1_i32_4645 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7364 : BitVec 32 := Scalar.subi c1_i32_4645 v9
  let arg1 : BitVec 32 := BitVec.ofNat 32 (i 1).val
  let c2_i32_4641 : BitVec 32 := 2#32
  let v7360 : BitVec 32 := Scalar.muli arg1 c2_i32_4641
  let c1_i32_4642 : BitVec 32 := 1#32
  let v7361 : BitVec 32 := Scalar.addi v7360 c1_i32_4642
  let c256_i32_4643 : BitVec 32 := 256#32
  let v7362 : BitVec 32 := Scalar.muli v7361 c256_i32_4643
  let c229_i32_4644 : BitVec 32 := 229#32
  let v7363 : BitVec 32 := Scalar.addi v7362 c229_i32_4644
  let c8_i32_4648 : BitVec 32 := 8#32
  let v7368 : BitVec 32 := Scalar.muli v7363 c8_i32_4648
  let v7369 : BitVec 32 := v7368
  let c0_i32_4649 : BitVec 32 := 0#32
  ![v7364.toNat, v7369.toNat, 0]
def k0_off4013 (v7366 : BitVec 32) : Fin 2 → Nat :=
  let v7367 : BitVec 32 := v7366
  let c0_i32_4650 : BitVec 32 := 0#32
  ![v7367.toNat, 0]

def k0_chk999 (i : grid0.Coords) (v7366 : BitVec 32) : Prop :=
  (∀ (k0_h3 : k0_cond3 i = 1#1), 8 ∣ (k0_mult1997 v7366).toNat) ∧
  (∀ (k0_h3 : k0_cond3 i = 1#1), ∀ a, (k0_off4013 v7366) a + S8x128.size a ≤ S131072x128.size a)
theorem k0_mult1997_dvd : ∀ (i : grid0.Coords) (v7366 : BitVec 32) (k0_hw999 : k0_chk999 i v7366), ∀ (k0_h3 : k0_cond3 i = 1#1), 8 ∣ (k0_mult1997 v7366).toNat := fun i v7366 k0_hw999 k0_h3 => k0_hw999.1 k0_h3
theorem k0_off4013_inb : ∀ (i : grid0.Coords) (v7366 : BitVec 32) (k0_hw999 : k0_chk999 i v7366), ∀ (k0_h3 : k0_cond3 i = 1#1), ∀ a, (k0_off4013 v7366) a + S8x128.size a ≤ S131072x128.size a := fun i v7366 k0_hw999 k0_h3 => k0_hw999.2 k0_h3

def k0_off4014 (i : grid0.Coords) : Fin 3 → Nat :=
  let c0_4656 : Index := 0#32
  let c0_4657 : Index := 0#32
  let arg1 : BitVec 32 := BitVec.ofNat 32 (i 1).val
  let c2_i32_4651 : BitVec 32 := 2#32
  let v7375 : BitVec 32 := Scalar.muli arg1 c2_i32_4651
  let c1_i32_4652 : BitVec 32 := 1#32
  let v7376 : BitVec 32 := Scalar.addi v7375 c1_i32_4652
  let c256_i32_4653 : BitVec 32 := 256#32
  let v7377 : BitVec 32 := Scalar.muli v7376 c256_i32_4653
  let c230_i32_4654 : BitVec 32 := 230#32
  let v7378 : BitVec 32 := Scalar.addi v7377 c230_i32_4654
  let v7380 : Index := Scalar.indexCast v7378
  ![0, 0, v7380.toNat]
def k0_mult1999 (v7381 : BitVec 32) : BitVec 32 :=
  v7381

def k0_mult2000 (i : grid0.Coords) : BitVec 32 :=
  let arg1 : BitVec 32 := BitVec.ofNat 32 (i 1).val
  let c2_i32_4651 : BitVec 32 := 2#32
  let v7375 : BitVec 32 := Scalar.muli arg1 c2_i32_4651
  let c1_i32_4652 : BitVec 32 := 1#32
  let v7376 : BitVec 32 := Scalar.addi v7375 c1_i32_4652
  let c256_i32_4653 : BitVec 32 := 256#32
  let v7377 : BitVec 32 := Scalar.muli v7376 c256_i32_4653
  let c230_i32_4654 : BitVec 32 := 230#32
  let v7378 : BitVec 32 := Scalar.addi v7377 c230_i32_4654
  let c8_i32_4658 : BitVec 32 := 8#32
  let v7383 : BitVec 32 := Scalar.muli v7378 c8_i32_4658
  v7383

variable {F : FTy → Type} [FloatOps F]

def k0_off4015 (i : grid0.Coords) : Fin 1 → Nat :=
  let c1_i32_4655 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7379 : BitVec 32 := Scalar.subi c1_i32_4655 v9
  ![v7379.toNat]
def k0_off4016 (i : grid0.Coords) : Fin 3 → Nat :=
  let c1_i32_4655 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7379 : BitVec 32 := Scalar.subi c1_i32_4655 v9
  let arg1 : BitVec 32 := BitVec.ofNat 32 (i 1).val
  let c2_i32_4651 : BitVec 32 := 2#32
  let v7375 : BitVec 32 := Scalar.muli arg1 c2_i32_4651
  let c1_i32_4652 : BitVec 32 := 1#32
  let v7376 : BitVec 32 := Scalar.addi v7375 c1_i32_4652
  let c256_i32_4653 : BitVec 32 := 256#32
  let v7377 : BitVec 32 := Scalar.muli v7376 c256_i32_4653
  let c230_i32_4654 : BitVec 32 := 230#32
  let v7378 : BitVec 32 := Scalar.addi v7377 c230_i32_4654
  let c8_i32_4658 : BitVec 32 := 8#32
  let v7383 : BitVec 32 := Scalar.muli v7378 c8_i32_4658
  let v7384 : BitVec 32 := v7383
  let c0_i32_4659 : BitVec 32 := 0#32
  ![v7379.toNat, v7384.toNat, 0]
def k0_off4017 (v7381 : BitVec 32) : Fin 2 → Nat :=
  let v7382 : BitVec 32 := v7381
  let c0_i32_4660 : BitVec 32 := 0#32
  ![v7382.toNat, 0]

def k0_chk1000 (i : grid0.Coords) (v7381 : BitVec 32) : Prop :=
  (∀ (k0_h3 : k0_cond3 i = 1#1), 8 ∣ (k0_mult1999 v7381).toNat) ∧
  (∀ (k0_h3 : k0_cond3 i = 1#1), ∀ a, (k0_off4017 v7381) a + S8x128.size a ≤ S131072x128.size a)
theorem k0_mult1999_dvd : ∀ (i : grid0.Coords) (v7381 : BitVec 32) (k0_hw1000 : k0_chk1000 i v7381), ∀ (k0_h3 : k0_cond3 i = 1#1), 8 ∣ (k0_mult1999 v7381).toNat := fun i v7381 k0_hw1000 k0_h3 => k0_hw1000.1 k0_h3
theorem k0_off4017_inb : ∀ (i : grid0.Coords) (v7381 : BitVec 32) (k0_hw1000 : k0_chk1000 i v7381), ∀ (k0_h3 : k0_cond3 i = 1#1), ∀ a, (k0_off4017 v7381) a + S8x128.size a ≤ S131072x128.size a := fun i v7381 k0_hw1000 k0_h3 => k0_hw1000.2 k0_h3

def k0_off4018 (i : grid0.Coords) : Fin 3 → Nat :=
  let c0_4666 : Index := 0#32
  let c0_4667 : Index := 0#32
  let arg1 : BitVec 32 := BitVec.ofNat 32 (i 1).val
  let c2_i32_4661 : BitVec 32 := 2#32
  let v7390 : BitVec 32 := Scalar.muli arg1 c2_i32_4661
  let c1_i32_4662 : BitVec 32 := 1#32
  let v7391 : BitVec 32 := Scalar.addi v7390 c1_i32_4662
  let c256_i32_4663 : BitVec 32 := 256#32
  let v7392 : BitVec 32 := Scalar.muli v7391 c256_i32_4663
  let c231_i32_4664 : BitVec 32 := 231#32
  let v7393 : BitVec 32 := Scalar.addi v7392 c231_i32_4664
  let v7395 : Index := Scalar.indexCast v7393
  ![0, 0, v7395.toNat]
def k0_mult2001 (v7396 : BitVec 32) : BitVec 32 :=
  v7396

def k0_mult2002 (i : grid0.Coords) : BitVec 32 :=
  let arg1 : BitVec 32 := BitVec.ofNat 32 (i 1).val
  let c2_i32_4661 : BitVec 32 := 2#32
  let v7390 : BitVec 32 := Scalar.muli arg1 c2_i32_4661
  let c1_i32_4662 : BitVec 32 := 1#32
  let v7391 : BitVec 32 := Scalar.addi v7390 c1_i32_4662
  let c256_i32_4663 : BitVec 32 := 256#32
  let v7392 : BitVec 32 := Scalar.muli v7391 c256_i32_4663
  let c231_i32_4664 : BitVec 32 := 231#32
  let v7393 : BitVec 32 := Scalar.addi v7392 c231_i32_4664
  let c8_i32_4668 : BitVec 32 := 8#32
  let v7398 : BitVec 32 := Scalar.muli v7393 c8_i32_4668
  v7398
def k0_off4019 (i : grid0.Coords) : Fin 1 → Nat :=
  let c1_i32_4665 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7394 : BitVec 32 := Scalar.subi c1_i32_4665 v9
  ![v7394.toNat]
def k0_off4020 (i : grid0.Coords) : Fin 3 → Nat :=
  let c1_i32_4665 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7394 : BitVec 32 := Scalar.subi c1_i32_4665 v9
  let arg1 : BitVec 32 := BitVec.ofNat 32 (i 1).val
  let c2_i32_4661 : BitVec 32 := 2#32
  let v7390 : BitVec 32 := Scalar.muli arg1 c2_i32_4661
  let c1_i32_4662 : BitVec 32 := 1#32
  let v7391 : BitVec 32 := Scalar.addi v7390 c1_i32_4662
  let c256_i32_4663 : BitVec 32 := 256#32
  let v7392 : BitVec 32 := Scalar.muli v7391 c256_i32_4663
  let c231_i32_4664 : BitVec 32 := 231#32
  let v7393 : BitVec 32 := Scalar.addi v7392 c231_i32_4664
  let c8_i32_4668 : BitVec 32 := 8#32
  let v7398 : BitVec 32 := Scalar.muli v7393 c8_i32_4668
  let v7399 : BitVec 32 := v7398
  let c0_i32_4669 : BitVec 32 := 0#32
  ![v7394.toNat, v7399.toNat, 0]
def k0_off4021 (v7396 : BitVec 32) : Fin 2 → Nat :=
  let v7397 : BitVec 32 := v7396
  let c0_i32_4670 : BitVec 32 := 0#32
  ![v7397.toNat, 0]

def k0_chk1001 (i : grid0.Coords) (v7396 : BitVec 32) : Prop :=
  (∀ (k0_h3 : k0_cond3 i = 1#1), 8 ∣ (k0_mult2001 v7396).toNat) ∧
  (∀ (k0_h3 : k0_cond3 i = 1#1), ∀ a, (k0_off4021 v7396) a + S8x128.size a ≤ S131072x128.size a)
theorem k0_mult2001_dvd : ∀ (i : grid0.Coords) (v7396 : BitVec 32) (k0_hw1001 : k0_chk1001 i v7396), ∀ (k0_h3 : k0_cond3 i = 1#1), 8 ∣ (k0_mult2001 v7396).toNat := fun i v7396 k0_hw1001 k0_h3 => k0_hw1001.1 k0_h3
theorem k0_off4021_inb : ∀ (i : grid0.Coords) (v7396 : BitVec 32) (k0_hw1001 : k0_chk1001 i v7396), ∀ (k0_h3 : k0_cond3 i = 1#1), ∀ a, (k0_off4021 v7396) a + S8x128.size a ≤ S131072x128.size a := fun i v7396 k0_hw1001 k0_h3 => k0_hw1001.2 k0_h3

def k0_off4022 (i : grid0.Coords) : Fin 3 → Nat :=
  let c0_4676 : Index := 0#32
  let c0_4677 : Index := 0#32
  let arg1 : BitVec 32 := BitVec.ofNat 32 (i 1).val
  let c2_i32_4671 : BitVec 32 := 2#32
  let v7405 : BitVec 32 := Scalar.muli arg1 c2_i32_4671
  let c1_i32_4672 : BitVec 32 := 1#32
  let v7406 : BitVec 32 := Scalar.addi v7405 c1_i32_4672
  let c256_i32_4673 : BitVec 32 := 256#32
  let v7407 : BitVec 32 := Scalar.muli v7406 c256_i32_4673
  let c232_i32_4674 : BitVec 32 := 232#32
  let v7408 : BitVec 32 := Scalar.addi v7407 c232_i32_4674
  let v7410 : Index := Scalar.indexCast v7408
  ![0, 0, v7410.toNat]
def k0_mult2003 (v7411 : BitVec 32) : BitVec 32 :=
  v7411

def k0_mult2004 (i : grid0.Coords) : BitVec 32 :=
  let arg1 : BitVec 32 := BitVec.ofNat 32 (i 1).val
  let c2_i32_4671 : BitVec 32 := 2#32
  let v7405 : BitVec 32 := Scalar.muli arg1 c2_i32_4671
  let c1_i32_4672 : BitVec 32 := 1#32
  let v7406 : BitVec 32 := Scalar.addi v7405 c1_i32_4672
  let c256_i32_4673 : BitVec 32 := 256#32
  let v7407 : BitVec 32 := Scalar.muli v7406 c256_i32_4673
  let c232_i32_4674 : BitVec 32 := 232#32
  let v7408 : BitVec 32 := Scalar.addi v7407 c232_i32_4674
  let c8_i32_4678 : BitVec 32 := 8#32
  let v7413 : BitVec 32 := Scalar.muli v7408 c8_i32_4678
  v7413
def k0_off4023 (i : grid0.Coords) : Fin 1 → Nat :=
  let c1_i32_4675 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7409 : BitVec 32 := Scalar.subi c1_i32_4675 v9
  ![v7409.toNat]
def k0_off4024 (i : grid0.Coords) : Fin 3 → Nat :=
  let c1_i32_4675 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7409 : BitVec 32 := Scalar.subi c1_i32_4675 v9
  let arg1 : BitVec 32 := BitVec.ofNat 32 (i 1).val
  let c2_i32_4671 : BitVec 32 := 2#32
  let v7405 : BitVec 32 := Scalar.muli arg1 c2_i32_4671
  let c1_i32_4672 : BitVec 32 := 1#32
  let v7406 : BitVec 32 := Scalar.addi v7405 c1_i32_4672
  let c256_i32_4673 : BitVec 32 := 256#32
  let v7407 : BitVec 32 := Scalar.muli v7406 c256_i32_4673
  let c232_i32_4674 : BitVec 32 := 232#32
  let v7408 : BitVec 32 := Scalar.addi v7407 c232_i32_4674
  let c8_i32_4678 : BitVec 32 := 8#32
  let v7413 : BitVec 32 := Scalar.muli v7408 c8_i32_4678
  let v7414 : BitVec 32 := v7413
  let c0_i32_4679 : BitVec 32 := 0#32
  ![v7409.toNat, v7414.toNat, 0]
def k0_off4025 (v7411 : BitVec 32) : Fin 2 → Nat :=
  let v7412 : BitVec 32 := v7411
  let c0_i32_4680 : BitVec 32 := 0#32
  ![v7412.toNat, 0]

def k0_chk1002 (i : grid0.Coords) (v7411 : BitVec 32) : Prop :=
  (∀ (k0_h3 : k0_cond3 i = 1#1), 8 ∣ (k0_mult2003 v7411).toNat) ∧
  (∀ (k0_h3 : k0_cond3 i = 1#1), ∀ a, (k0_off4025 v7411) a + S8x128.size a ≤ S131072x128.size a)
theorem k0_mult2003_dvd : ∀ (i : grid0.Coords) (v7411 : BitVec 32) (k0_hw1002 : k0_chk1002 i v7411), ∀ (k0_h3 : k0_cond3 i = 1#1), 8 ∣ (k0_mult2003 v7411).toNat := fun i v7411 k0_hw1002 k0_h3 => k0_hw1002.1 k0_h3
theorem k0_off4025_inb : ∀ (i : grid0.Coords) (v7411 : BitVec 32) (k0_hw1002 : k0_chk1002 i v7411), ∀ (k0_h3 : k0_cond3 i = 1#1), ∀ a, (k0_off4025 v7411) a + S8x128.size a ≤ S131072x128.size a := fun i v7411 k0_hw1002 k0_h3 => k0_hw1002.2 k0_h3

def k0_off4026 (i : grid0.Coords) : Fin 3 → Nat :=
  let c0_4686 : Index := 0#32
  let c0_4687 : Index := 0#32
  let arg1 : BitVec 32 := BitVec.ofNat 32 (i 1).val
  let c2_i32_4681 : BitVec 32 := 2#32
  let v7420 : BitVec 32 := Scalar.muli arg1 c2_i32_4681
  let c1_i32_4682 : BitVec 32 := 1#32
  let v7421 : BitVec 32 := Scalar.addi v7420 c1_i32_4682
  let c256_i32_4683 : BitVec 32 := 256#32
  let v7422 : BitVec 32 := Scalar.muli v7421 c256_i32_4683
  let c233_i32_4684 : BitVec 32 := 233#32
  let v7423 : BitVec 32 := Scalar.addi v7422 c233_i32_4684
  let v7425 : Index := Scalar.indexCast v7423
  ![0, 0, v7425.toNat]
def k0_mult2005 (v7426 : BitVec 32) : BitVec 32 :=
  v7426

def k0_mult2006 (i : grid0.Coords) : BitVec 32 :=
  let arg1 : BitVec 32 := BitVec.ofNat 32 (i 1).val
  let c2_i32_4681 : BitVec 32 := 2#32
  let v7420 : BitVec 32 := Scalar.muli arg1 c2_i32_4681
  let c1_i32_4682 : BitVec 32 := 1#32
  let v7421 : BitVec 32 := Scalar.addi v7420 c1_i32_4682
  let c256_i32_4683 : BitVec 32 := 256#32
  let v7422 : BitVec 32 := Scalar.muli v7421 c256_i32_4683
  let c233_i32_4684 : BitVec 32 := 233#32
  let v7423 : BitVec 32 := Scalar.addi v7422 c233_i32_4684
  let c8_i32_4688 : BitVec 32 := 8#32
  let v7428 : BitVec 32 := Scalar.muli v7423 c8_i32_4688
  v7428
def k0_off4027 (i : grid0.Coords) : Fin 1 → Nat :=
  let c1_i32_4685 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7424 : BitVec 32 := Scalar.subi c1_i32_4685 v9
  ![v7424.toNat]
def k0_off4028 (i : grid0.Coords) : Fin 3 → Nat :=
  let c1_i32_4685 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7424 : BitVec 32 := Scalar.subi c1_i32_4685 v9
  let arg1 : BitVec 32 := BitVec.ofNat 32 (i 1).val
  let c2_i32_4681 : BitVec 32 := 2#32
  let v7420 : BitVec 32 := Scalar.muli arg1 c2_i32_4681
  let c1_i32_4682 : BitVec 32 := 1#32
  let v7421 : BitVec 32 := Scalar.addi v7420 c1_i32_4682
  let c256_i32_4683 : BitVec 32 := 256#32
  let v7422 : BitVec 32 := Scalar.muli v7421 c256_i32_4683
  let c233_i32_4684 : BitVec 32 := 233#32
  let v7423 : BitVec 32 := Scalar.addi v7422 c233_i32_4684
  let c8_i32_4688 : BitVec 32 := 8#32
  let v7428 : BitVec 32 := Scalar.muli v7423 c8_i32_4688
  let v7429 : BitVec 32 := v7428
  let c0_i32_4689 : BitVec 32 := 0#32
  ![v7424.toNat, v7429.toNat, 0]
def k0_off4029 (v7426 : BitVec 32) : Fin 2 → Nat :=
  let v7427 : BitVec 32 := v7426
  let c0_i32_4690 : BitVec 32 := 0#32
  ![v7427.toNat, 0]

def k0_chk1003 (i : grid0.Coords) (v7426 : BitVec 32) : Prop :=
  (∀ (k0_h3 : k0_cond3 i = 1#1), 8 ∣ (k0_mult2005 v7426).toNat) ∧
  (∀ (k0_h3 : k0_cond3 i = 1#1), ∀ a, (k0_off4029 v7426) a + S8x128.size a ≤ S131072x128.size a)
theorem k0_mult2005_dvd : ∀ (i : grid0.Coords) (v7426 : BitVec 32) (k0_hw1003 : k0_chk1003 i v7426), ∀ (k0_h3 : k0_cond3 i = 1#1), 8 ∣ (k0_mult2005 v7426).toNat := fun i v7426 k0_hw1003 k0_h3 => k0_hw1003.1 k0_h3
theorem k0_off4029_inb : ∀ (i : grid0.Coords) (v7426 : BitVec 32) (k0_hw1003 : k0_chk1003 i v7426), ∀ (k0_h3 : k0_cond3 i = 1#1), ∀ a, (k0_off4029 v7426) a + S8x128.size a ≤ S131072x128.size a := fun i v7426 k0_hw1003 k0_h3 => k0_hw1003.2 k0_h3

def k0_off4030 (i : grid0.Coords) : Fin 3 → Nat :=
  let c0_4696 : Index := 0#32
  let c0_4697 : Index := 0#32
  let arg1 : BitVec 32 := BitVec.ofNat 32 (i 1).val
  let c2_i32_4691 : BitVec 32 := 2#32
  let v7435 : BitVec 32 := Scalar.muli arg1 c2_i32_4691
  let c1_i32_4692 : BitVec 32 := 1#32
  let v7436 : BitVec 32 := Scalar.addi v7435 c1_i32_4692
  let c256_i32_4693 : BitVec 32 := 256#32
  let v7437 : BitVec 32 := Scalar.muli v7436 c256_i32_4693
  let c234_i32_4694 : BitVec 32 := 234#32
  let v7438 : BitVec 32 := Scalar.addi v7437 c234_i32_4694
  let v7440 : Index := Scalar.indexCast v7438
  ![0, 0, v7440.toNat]
def k0_mult2007 (v7441 : BitVec 32) : BitVec 32 :=
  v7441

def k0_mult2008 (i : grid0.Coords) : BitVec 32 :=
  let arg1 : BitVec 32 := BitVec.ofNat 32 (i 1).val
  let c2_i32_4691 : BitVec 32 := 2#32
  let v7435 : BitVec 32 := Scalar.muli arg1 c2_i32_4691
  let c1_i32_4692 : BitVec 32 := 1#32
  let v7436 : BitVec 32 := Scalar.addi v7435 c1_i32_4692
  let c256_i32_4693 : BitVec 32 := 256#32
  let v7437 : BitVec 32 := Scalar.muli v7436 c256_i32_4693
  let c234_i32_4694 : BitVec 32 := 234#32
  let v7438 : BitVec 32 := Scalar.addi v7437 c234_i32_4694
  let c8_i32_4698 : BitVec 32 := 8#32
  let v7443 : BitVec 32 := Scalar.muli v7438 c8_i32_4698
  v7443
def k0_off4031 (i : grid0.Coords) : Fin 1 → Nat :=
  let c1_i32_4695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7439 : BitVec 32 := Scalar.subi c1_i32_4695 v9
  ![v7439.toNat]
def k0_off4032 (i : grid0.Coords) : Fin 3 → Nat :=
  let c1_i32_4695 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7439 : BitVec 32 := Scalar.subi c1_i32_4695 v9
  let arg1 : BitVec 32 := BitVec.ofNat 32 (i 1).val
  let c2_i32_4691 : BitVec 32 := 2#32
  let v7435 : BitVec 32 := Scalar.muli arg1 c2_i32_4691
  let c1_i32_4692 : BitVec 32 := 1#32
  let v7436 : BitVec 32 := Scalar.addi v7435 c1_i32_4692
  let c256_i32_4693 : BitVec 32 := 256#32
  let v7437 : BitVec 32 := Scalar.muli v7436 c256_i32_4693
  let c234_i32_4694 : BitVec 32 := 234#32
  let v7438 : BitVec 32 := Scalar.addi v7437 c234_i32_4694
  let c8_i32_4698 : BitVec 32 := 8#32
  let v7443 : BitVec 32 := Scalar.muli v7438 c8_i32_4698
  let v7444 : BitVec 32 := v7443
  let c0_i32_4699 : BitVec 32 := 0#32
  ![v7439.toNat, v7444.toNat, 0]
def k0_off4033 (v7441 : BitVec 32) : Fin 2 → Nat :=
  let v7442 : BitVec 32 := v7441
  let c0_i32_4700 : BitVec 32 := 0#32
  ![v7442.toNat, 0]

def k0_chk1004 (i : grid0.Coords) (v7441 : BitVec 32) : Prop :=
  (∀ (k0_h3 : k0_cond3 i = 1#1), 8 ∣ (k0_mult2007 v7441).toNat) ∧
  (∀ (k0_h3 : k0_cond3 i = 1#1), ∀ a, (k0_off4033 v7441) a + S8x128.size a ≤ S131072x128.size a)
theorem k0_mult2007_dvd : ∀ (i : grid0.Coords) (v7441 : BitVec 32) (k0_hw1004 : k0_chk1004 i v7441), ∀ (k0_h3 : k0_cond3 i = 1#1), 8 ∣ (k0_mult2007 v7441).toNat := fun i v7441 k0_hw1004 k0_h3 => k0_hw1004.1 k0_h3
theorem k0_off4033_inb : ∀ (i : grid0.Coords) (v7441 : BitVec 32) (k0_hw1004 : k0_chk1004 i v7441), ∀ (k0_h3 : k0_cond3 i = 1#1), ∀ a, (k0_off4033 v7441) a + S8x128.size a ≤ S131072x128.size a := fun i v7441 k0_hw1004 k0_h3 => k0_hw1004.2 k0_h3

def k0_off4034 (i : grid0.Coords) : Fin 3 → Nat :=
  let c0_4706 : Index := 0#32
  let c0_4707 : Index := 0#32
  let arg1 : BitVec 32 := BitVec.ofNat 32 (i 1).val
  let c2_i32_4701 : BitVec 32 := 2#32
  let v7450 : BitVec 32 := Scalar.muli arg1 c2_i32_4701
  let c1_i32_4702 : BitVec 32 := 1#32
  let v7451 : BitVec 32 := Scalar.addi v7450 c1_i32_4702
  let c256_i32_4703 : BitVec 32 := 256#32
  let v7452 : BitVec 32 := Scalar.muli v7451 c256_i32_4703
  let c235_i32_4704 : BitVec 32 := 235#32
  let v7453 : BitVec 32 := Scalar.addi v7452 c235_i32_4704
  let v7455 : Index := Scalar.indexCast v7453
  ![0, 0, v7455.toNat]
def k0_mult2009 (v7456 : BitVec 32) : BitVec 32 :=
  v7456

def k0_mult2010 (i : grid0.Coords) : BitVec 32 :=
  let arg1 : BitVec 32 := BitVec.ofNat 32 (i 1).val
  let c2_i32_4701 : BitVec 32 := 2#32
  let v7450 : BitVec 32 := Scalar.muli arg1 c2_i32_4701
  let c1_i32_4702 : BitVec 32 := 1#32
  let v7451 : BitVec 32 := Scalar.addi v7450 c1_i32_4702
  let c256_i32_4703 : BitVec 32 := 256#32
  let v7452 : BitVec 32 := Scalar.muli v7451 c256_i32_4703
  let c235_i32_4704 : BitVec 32 := 235#32
  let v7453 : BitVec 32 := Scalar.addi v7452 c235_i32_4704
  let c8_i32_4708 : BitVec 32 := 8#32
  let v7458 : BitVec 32 := Scalar.muli v7453 c8_i32_4708
  v7458
def k0_off4035 (i : grid0.Coords) : Fin 1 → Nat :=
  let c1_i32_4705 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7454 : BitVec 32 := Scalar.subi c1_i32_4705 v9
  ![v7454.toNat]
def k0_off4036 (i : grid0.Coords) : Fin 3 → Nat :=
  let c1_i32_4705 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7454 : BitVec 32 := Scalar.subi c1_i32_4705 v9
  let arg1 : BitVec 32 := BitVec.ofNat 32 (i 1).val
  let c2_i32_4701 : BitVec 32 := 2#32
  let v7450 : BitVec 32 := Scalar.muli arg1 c2_i32_4701
  let c1_i32_4702 : BitVec 32 := 1#32
  let v7451 : BitVec 32 := Scalar.addi v7450 c1_i32_4702
  let c256_i32_4703 : BitVec 32 := 256#32
  let v7452 : BitVec 32 := Scalar.muli v7451 c256_i32_4703
  let c235_i32_4704 : BitVec 32 := 235#32
  let v7453 : BitVec 32 := Scalar.addi v7452 c235_i32_4704
  let c8_i32_4708 : BitVec 32 := 8#32
  let v7458 : BitVec 32 := Scalar.muli v7453 c8_i32_4708
  let v7459 : BitVec 32 := v7458
  let c0_i32_4709 : BitVec 32 := 0#32
  ![v7454.toNat, v7459.toNat, 0]
def k0_off4037 (v7456 : BitVec 32) : Fin 2 → Nat :=
  let v7457 : BitVec 32 := v7456
  let c0_i32_4710 : BitVec 32 := 0#32
  ![v7457.toNat, 0]

def k0_chk1005 (i : grid0.Coords) (v7456 : BitVec 32) : Prop :=
  (∀ (k0_h3 : k0_cond3 i = 1#1), 8 ∣ (k0_mult2009 v7456).toNat) ∧
  (∀ (k0_h3 : k0_cond3 i = 1#1), ∀ a, (k0_off4037 v7456) a + S8x128.size a ≤ S131072x128.size a)
theorem k0_mult2009_dvd : ∀ (i : grid0.Coords) (v7456 : BitVec 32) (k0_hw1005 : k0_chk1005 i v7456), ∀ (k0_h3 : k0_cond3 i = 1#1), 8 ∣ (k0_mult2009 v7456).toNat := fun i v7456 k0_hw1005 k0_h3 => k0_hw1005.1 k0_h3
theorem k0_off4037_inb : ∀ (i : grid0.Coords) (v7456 : BitVec 32) (k0_hw1005 : k0_chk1005 i v7456), ∀ (k0_h3 : k0_cond3 i = 1#1), ∀ a, (k0_off4037 v7456) a + S8x128.size a ≤ S131072x128.size a := fun i v7456 k0_hw1005 k0_h3 => k0_hw1005.2 k0_h3

def k0_off4038 (i : grid0.Coords) : Fin 3 → Nat :=
  let c0_4716 : Index := 0#32
  let c0_4717 : Index := 0#32
  let arg1 : BitVec 32 := BitVec.ofNat 32 (i 1).val
  let c2_i32_4711 : BitVec 32 := 2#32
  let v7465 : BitVec 32 := Scalar.muli arg1 c2_i32_4711
  let c1_i32_4712 : BitVec 32 := 1#32
  let v7466 : BitVec 32 := Scalar.addi v7465 c1_i32_4712
  let c256_i32_4713 : BitVec 32 := 256#32
  let v7467 : BitVec 32 := Scalar.muli v7466 c256_i32_4713
  let c236_i32_4714 : BitVec 32 := 236#32
  let v7468 : BitVec 32 := Scalar.addi v7467 c236_i32_4714
  let v7470 : Index := Scalar.indexCast v7468
  ![0, 0, v7470.toNat]
def k0_mult2011 (v7471 : BitVec 32) : BitVec 32 :=
  v7471

def k0_mult2012 (i : grid0.Coords) : BitVec 32 :=
  let arg1 : BitVec 32 := BitVec.ofNat 32 (i 1).val
  let c2_i32_4711 : BitVec 32 := 2#32
  let v7465 : BitVec 32 := Scalar.muli arg1 c2_i32_4711
  let c1_i32_4712 : BitVec 32 := 1#32
  let v7466 : BitVec 32 := Scalar.addi v7465 c1_i32_4712
  let c256_i32_4713 : BitVec 32 := 256#32
  let v7467 : BitVec 32 := Scalar.muli v7466 c256_i32_4713
  let c236_i32_4714 : BitVec 32 := 236#32
  let v7468 : BitVec 32 := Scalar.addi v7467 c236_i32_4714
  let c8_i32_4718 : BitVec 32 := 8#32
  let v7473 : BitVec 32 := Scalar.muli v7468 c8_i32_4718
  v7473
def k0_off4039 (i : grid0.Coords) : Fin 1 → Nat :=
  let c1_i32_4715 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7469 : BitVec 32 := Scalar.subi c1_i32_4715 v9
  ![v7469.toNat]
def k0_off4040 (i : grid0.Coords) : Fin 3 → Nat :=
  let c1_i32_4715 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7469 : BitVec 32 := Scalar.subi c1_i32_4715 v9
  let arg1 : BitVec 32 := BitVec.ofNat 32 (i 1).val
  let c2_i32_4711 : BitVec 32 := 2#32
  let v7465 : BitVec 32 := Scalar.muli arg1 c2_i32_4711
  let c1_i32_4712 : BitVec 32 := 1#32
  let v7466 : BitVec 32 := Scalar.addi v7465 c1_i32_4712
  let c256_i32_4713 : BitVec 32 := 256#32
  let v7467 : BitVec 32 := Scalar.muli v7466 c256_i32_4713
  let c236_i32_4714 : BitVec 32 := 236#32
  let v7468 : BitVec 32 := Scalar.addi v7467 c236_i32_4714
  let c8_i32_4718 : BitVec 32 := 8#32
  let v7473 : BitVec 32 := Scalar.muli v7468 c8_i32_4718
  let v7474 : BitVec 32 := v7473
  let c0_i32_4719 : BitVec 32 := 0#32
  ![v7469.toNat, v7474.toNat, 0]
def k0_off4041 (v7471 : BitVec 32) : Fin 2 → Nat :=
  let v7472 : BitVec 32 := v7471
  let c0_i32_4720 : BitVec 32 := 0#32
  ![v7472.toNat, 0]

def k0_chk1006 (i : grid0.Coords) (v7471 : BitVec 32) : Prop :=
  (∀ (k0_h3 : k0_cond3 i = 1#1), 8 ∣ (k0_mult2011 v7471).toNat) ∧
  (∀ (k0_h3 : k0_cond3 i = 1#1), ∀ a, (k0_off4041 v7471) a + S8x128.size a ≤ S131072x128.size a)
theorem k0_mult2011_dvd : ∀ (i : grid0.Coords) (v7471 : BitVec 32) (k0_hw1006 : k0_chk1006 i v7471), ∀ (k0_h3 : k0_cond3 i = 1#1), 8 ∣ (k0_mult2011 v7471).toNat := fun i v7471 k0_hw1006 k0_h3 => k0_hw1006.1 k0_h3
theorem k0_off4041_inb : ∀ (i : grid0.Coords) (v7471 : BitVec 32) (k0_hw1006 : k0_chk1006 i v7471), ∀ (k0_h3 : k0_cond3 i = 1#1), ∀ a, (k0_off4041 v7471) a + S8x128.size a ≤ S131072x128.size a := fun i v7471 k0_hw1006 k0_h3 => k0_hw1006.2 k0_h3

def k0_off4042 (i : grid0.Coords) : Fin 3 → Nat :=
  let c0_4726 : Index := 0#32
  let c0_4727 : Index := 0#32
  let arg1 : BitVec 32 := BitVec.ofNat 32 (i 1).val
  let c2_i32_4721 : BitVec 32 := 2#32
  let v7480 : BitVec 32 := Scalar.muli arg1 c2_i32_4721
  let c1_i32_4722 : BitVec 32 := 1#32
  let v7481 : BitVec 32 := Scalar.addi v7480 c1_i32_4722
  let c256_i32_4723 : BitVec 32 := 256#32
  let v7482 : BitVec 32 := Scalar.muli v7481 c256_i32_4723
  let c237_i32_4724 : BitVec 32 := 237#32
  let v7483 : BitVec 32 := Scalar.addi v7482 c237_i32_4724
  let v7485 : Index := Scalar.indexCast v7483
  ![0, 0, v7485.toNat]
def k0_mult2013 (v7486 : BitVec 32) : BitVec 32 :=
  v7486

def k0_mult2014 (i : grid0.Coords) : BitVec 32 :=
  let arg1 : BitVec 32 := BitVec.ofNat 32 (i 1).val
  let c2_i32_4721 : BitVec 32 := 2#32
  let v7480 : BitVec 32 := Scalar.muli arg1 c2_i32_4721
  let c1_i32_4722 : BitVec 32 := 1#32
  let v7481 : BitVec 32 := Scalar.addi v7480 c1_i32_4722
  let c256_i32_4723 : BitVec 32 := 256#32
  let v7482 : BitVec 32 := Scalar.muli v7481 c256_i32_4723
  let c237_i32_4724 : BitVec 32 := 237#32
  let v7483 : BitVec 32 := Scalar.addi v7482 c237_i32_4724
  let c8_i32_4728 : BitVec 32 := 8#32
  let v7488 : BitVec 32 := Scalar.muli v7483 c8_i32_4728
  v7488
def k0_off4043 (i : grid0.Coords) : Fin 1 → Nat :=
  let c1_i32_4725 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7484 : BitVec 32 := Scalar.subi c1_i32_4725 v9
  ![v7484.toNat]
def k0_off4044 (i : grid0.Coords) : Fin 3 → Nat :=
  let c1_i32_4725 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7484 : BitVec 32 := Scalar.subi c1_i32_4725 v9
  let arg1 : BitVec 32 := BitVec.ofNat 32 (i 1).val
  let c2_i32_4721 : BitVec 32 := 2#32
  let v7480 : BitVec 32 := Scalar.muli arg1 c2_i32_4721
  let c1_i32_4722 : BitVec 32 := 1#32
  let v7481 : BitVec 32 := Scalar.addi v7480 c1_i32_4722
  let c256_i32_4723 : BitVec 32 := 256#32
  let v7482 : BitVec 32 := Scalar.muli v7481 c256_i32_4723
  let c237_i32_4724 : BitVec 32 := 237#32
  let v7483 : BitVec 32 := Scalar.addi v7482 c237_i32_4724
  let c8_i32_4728 : BitVec 32 := 8#32
  let v7488 : BitVec 32 := Scalar.muli v7483 c8_i32_4728
  let v7489 : BitVec 32 := v7488
  let c0_i32_4729 : BitVec 32 := 0#32
  ![v7484.toNat, v7489.toNat, 0]
def k0_off4045 (v7486 : BitVec 32) : Fin 2 → Nat :=
  let v7487 : BitVec 32 := v7486
  let c0_i32_4730 : BitVec 32 := 0#32
  ![v7487.toNat, 0]

def k0_chk1007 (i : grid0.Coords) (v7486 : BitVec 32) : Prop :=
  (∀ (k0_h3 : k0_cond3 i = 1#1), 8 ∣ (k0_mult2013 v7486).toNat) ∧
  (∀ (k0_h3 : k0_cond3 i = 1#1), ∀ a, (k0_off4045 v7486) a + S8x128.size a ≤ S131072x128.size a)
theorem k0_mult2013_dvd : ∀ (i : grid0.Coords) (v7486 : BitVec 32) (k0_hw1007 : k0_chk1007 i v7486), ∀ (k0_h3 : k0_cond3 i = 1#1), 8 ∣ (k0_mult2013 v7486).toNat := fun i v7486 k0_hw1007 k0_h3 => k0_hw1007.1 k0_h3
theorem k0_off4045_inb : ∀ (i : grid0.Coords) (v7486 : BitVec 32) (k0_hw1007 : k0_chk1007 i v7486), ∀ (k0_h3 : k0_cond3 i = 1#1), ∀ a, (k0_off4045 v7486) a + S8x128.size a ≤ S131072x128.size a := fun i v7486 k0_hw1007 k0_h3 => k0_hw1007.2 k0_h3

def k0_off4046 (i : grid0.Coords) : Fin 3 → Nat :=
  let c0_4736 : Index := 0#32
  let c0_4737 : Index := 0#32
  let arg1 : BitVec 32 := BitVec.ofNat 32 (i 1).val
  let c2_i32_4731 : BitVec 32 := 2#32
  let v7495 : BitVec 32 := Scalar.muli arg1 c2_i32_4731
  let c1_i32_4732 : BitVec 32 := 1#32
  let v7496 : BitVec 32 := Scalar.addi v7495 c1_i32_4732
  let c256_i32_4733 : BitVec 32 := 256#32
  let v7497 : BitVec 32 := Scalar.muli v7496 c256_i32_4733
  let c238_i32_4734 : BitVec 32 := 238#32
  let v7498 : BitVec 32 := Scalar.addi v7497 c238_i32_4734
  let v7500 : Index := Scalar.indexCast v7498
  ![0, 0, v7500.toNat]
def k0_mult2015 (v7501 : BitVec 32) : BitVec 32 :=
  v7501

def k0_mult2016 (i : grid0.Coords) : BitVec 32 :=
  let arg1 : BitVec 32 := BitVec.ofNat 32 (i 1).val
  let c2_i32_4731 : BitVec 32 := 2#32
  let v7495 : BitVec 32 := Scalar.muli arg1 c2_i32_4731
  let c1_i32_4732 : BitVec 32 := 1#32
  let v7496 : BitVec 32 := Scalar.addi v7495 c1_i32_4732
  let c256_i32_4733 : BitVec 32 := 256#32
  let v7497 : BitVec 32 := Scalar.muli v7496 c256_i32_4733
  let c238_i32_4734 : BitVec 32 := 238#32
  let v7498 : BitVec 32 := Scalar.addi v7497 c238_i32_4734
  let c8_i32_4738 : BitVec 32 := 8#32
  let v7503 : BitVec 32 := Scalar.muli v7498 c8_i32_4738
  v7503
def k0_off4047 (i : grid0.Coords) : Fin 1 → Nat :=
  let c1_i32_4735 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7499 : BitVec 32 := Scalar.subi c1_i32_4735 v9
  ![v7499.toNat]
def k0_off4048 (i : grid0.Coords) : Fin 3 → Nat :=
  let c1_i32_4735 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7499 : BitVec 32 := Scalar.subi c1_i32_4735 v9
  let arg1 : BitVec 32 := BitVec.ofNat 32 (i 1).val
  let c2_i32_4731 : BitVec 32 := 2#32
  let v7495 : BitVec 32 := Scalar.muli arg1 c2_i32_4731
  let c1_i32_4732 : BitVec 32 := 1#32
  let v7496 : BitVec 32 := Scalar.addi v7495 c1_i32_4732
  let c256_i32_4733 : BitVec 32 := 256#32
  let v7497 : BitVec 32 := Scalar.muli v7496 c256_i32_4733
  let c238_i32_4734 : BitVec 32 := 238#32
  let v7498 : BitVec 32 := Scalar.addi v7497 c238_i32_4734
  let c8_i32_4738 : BitVec 32 := 8#32
  let v7503 : BitVec 32 := Scalar.muli v7498 c8_i32_4738
  let v7504 : BitVec 32 := v7503
  let c0_i32_4739 : BitVec 32 := 0#32
  ![v7499.toNat, v7504.toNat, 0]
def k0_off4049 (v7501 : BitVec 32) : Fin 2 → Nat :=
  let v7502 : BitVec 32 := v7501
  let c0_i32_4740 : BitVec 32 := 0#32
  ![v7502.toNat, 0]

def k0_chk1008 (i : grid0.Coords) (v7501 : BitVec 32) : Prop :=
  (∀ (k0_h3 : k0_cond3 i = 1#1), 8 ∣ (k0_mult2015 v7501).toNat) ∧
  (∀ (k0_h3 : k0_cond3 i = 1#1), ∀ a, (k0_off4049 v7501) a + S8x128.size a ≤ S131072x128.size a)
theorem k0_mult2015_dvd : ∀ (i : grid0.Coords) (v7501 : BitVec 32) (k0_hw1008 : k0_chk1008 i v7501), ∀ (k0_h3 : k0_cond3 i = 1#1), 8 ∣ (k0_mult2015 v7501).toNat := fun i v7501 k0_hw1008 k0_h3 => k0_hw1008.1 k0_h3
theorem k0_off4049_inb : ∀ (i : grid0.Coords) (v7501 : BitVec 32) (k0_hw1008 : k0_chk1008 i v7501), ∀ (k0_h3 : k0_cond3 i = 1#1), ∀ a, (k0_off4049 v7501) a + S8x128.size a ≤ S131072x128.size a := fun i v7501 k0_hw1008 k0_h3 => k0_hw1008.2 k0_h3

def k0_off4050 (i : grid0.Coords) : Fin 3 → Nat :=
  let c0_4746 : Index := 0#32
  let c0_4747 : Index := 0#32
  let arg1 : BitVec 32 := BitVec.ofNat 32 (i 1).val
  let c2_i32_4741 : BitVec 32 := 2#32
  let v7510 : BitVec 32 := Scalar.muli arg1 c2_i32_4741
  let c1_i32_4742 : BitVec 32 := 1#32
  let v7511 : BitVec 32 := Scalar.addi v7510 c1_i32_4742
  let c256_i32_4743 : BitVec 32 := 256#32
  let v7512 : BitVec 32 := Scalar.muli v7511 c256_i32_4743
  let c239_i32_4744 : BitVec 32 := 239#32
  let v7513 : BitVec 32 := Scalar.addi v7512 c239_i32_4744
  let v7515 : Index := Scalar.indexCast v7513
  ![0, 0, v7515.toNat]
def k0_mult2017 (v7516 : BitVec 32) : BitVec 32 :=
  v7516

def k0_mult2018 (i : grid0.Coords) : BitVec 32 :=
  let arg1 : BitVec 32 := BitVec.ofNat 32 (i 1).val
  let c2_i32_4741 : BitVec 32 := 2#32
  let v7510 : BitVec 32 := Scalar.muli arg1 c2_i32_4741
  let c1_i32_4742 : BitVec 32 := 1#32
  let v7511 : BitVec 32 := Scalar.addi v7510 c1_i32_4742
  let c256_i32_4743 : BitVec 32 := 256#32
  let v7512 : BitVec 32 := Scalar.muli v7511 c256_i32_4743
  let c239_i32_4744 : BitVec 32 := 239#32
  let v7513 : BitVec 32 := Scalar.addi v7512 c239_i32_4744
  let c8_i32_4748 : BitVec 32 := 8#32
  let v7518 : BitVec 32 := Scalar.muli v7513 c8_i32_4748
  v7518
def k0_off4051 (i : grid0.Coords) : Fin 1 → Nat :=
  let c1_i32_4745 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7514 : BitVec 32 := Scalar.subi c1_i32_4745 v9
  ![v7514.toNat]
def k0_off4052 (i : grid0.Coords) : Fin 3 → Nat :=
  let c1_i32_4745 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7514 : BitVec 32 := Scalar.subi c1_i32_4745 v9
  let arg1 : BitVec 32 := BitVec.ofNat 32 (i 1).val
  let c2_i32_4741 : BitVec 32 := 2#32
  let v7510 : BitVec 32 := Scalar.muli arg1 c2_i32_4741
  let c1_i32_4742 : BitVec 32 := 1#32
  let v7511 : BitVec 32 := Scalar.addi v7510 c1_i32_4742
  let c256_i32_4743 : BitVec 32 := 256#32
  let v7512 : BitVec 32 := Scalar.muli v7511 c256_i32_4743
  let c239_i32_4744 : BitVec 32 := 239#32
  let v7513 : BitVec 32 := Scalar.addi v7512 c239_i32_4744
  let c8_i32_4748 : BitVec 32 := 8#32
  let v7518 : BitVec 32 := Scalar.muli v7513 c8_i32_4748
  let v7519 : BitVec 32 := v7518
  let c0_i32_4749 : BitVec 32 := 0#32
  ![v7514.toNat, v7519.toNat, 0]
def k0_off4053 (v7516 : BitVec 32) : Fin 2 → Nat :=
  let v7517 : BitVec 32 := v7516
  let c0_i32_4750 : BitVec 32 := 0#32
  ![v7517.toNat, 0]

def k0_chk1009 (i : grid0.Coords) (v7516 : BitVec 32) : Prop :=
  (∀ (k0_h3 : k0_cond3 i = 1#1), 8 ∣ (k0_mult2017 v7516).toNat) ∧
  (∀ (k0_h3 : k0_cond3 i = 1#1), ∀ a, (k0_off4053 v7516) a + S8x128.size a ≤ S131072x128.size a)
theorem k0_mult2017_dvd : ∀ (i : grid0.Coords) (v7516 : BitVec 32) (k0_hw1009 : k0_chk1009 i v7516), ∀ (k0_h3 : k0_cond3 i = 1#1), 8 ∣ (k0_mult2017 v7516).toNat := fun i v7516 k0_hw1009 k0_h3 => k0_hw1009.1 k0_h3
theorem k0_off4053_inb : ∀ (i : grid0.Coords) (v7516 : BitVec 32) (k0_hw1009 : k0_chk1009 i v7516), ∀ (k0_h3 : k0_cond3 i = 1#1), ∀ a, (k0_off4053 v7516) a + S8x128.size a ≤ S131072x128.size a := fun i v7516 k0_hw1009 k0_h3 => k0_hw1009.2 k0_h3

def k0_off4054 (i : grid0.Coords) : Fin 3 → Nat :=
  let c0_4756 : Index := 0#32
  let c0_4757 : Index := 0#32
  let arg1 : BitVec 32 := BitVec.ofNat 32 (i 1).val
  let c2_i32_4751 : BitVec 32 := 2#32
  let v7525 : BitVec 32 := Scalar.muli arg1 c2_i32_4751
  let c1_i32_4752 : BitVec 32 := 1#32
  let v7526 : BitVec 32 := Scalar.addi v7525 c1_i32_4752
  let c256_i32_4753 : BitVec 32 := 256#32
  let v7527 : BitVec 32 := Scalar.muli v7526 c256_i32_4753
  let c240_i32_4754 : BitVec 32 := 240#32
  let v7528 : BitVec 32 := Scalar.addi v7527 c240_i32_4754
  let v7530 : Index := Scalar.indexCast v7528
  ![0, 0, v7530.toNat]
def k0_mult2019 (v7531 : BitVec 32) : BitVec 32 :=
  v7531

def k0_mult2020 (i : grid0.Coords) : BitVec 32 :=
  let arg1 : BitVec 32 := BitVec.ofNat 32 (i 1).val
  let c2_i32_4751 : BitVec 32 := 2#32
  let v7525 : BitVec 32 := Scalar.muli arg1 c2_i32_4751
  let c1_i32_4752 : BitVec 32 := 1#32
  let v7526 : BitVec 32 := Scalar.addi v7525 c1_i32_4752
  let c256_i32_4753 : BitVec 32 := 256#32
  let v7527 : BitVec 32 := Scalar.muli v7526 c256_i32_4753
  let c240_i32_4754 : BitVec 32 := 240#32
  let v7528 : BitVec 32 := Scalar.addi v7527 c240_i32_4754
  let c8_i32_4758 : BitVec 32 := 8#32
  let v7533 : BitVec 32 := Scalar.muli v7528 c8_i32_4758
  v7533
def k0_off4055 (i : grid0.Coords) : Fin 1 → Nat :=
  let c1_i32_4755 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7529 : BitVec 32 := Scalar.subi c1_i32_4755 v9
  ![v7529.toNat]
def k0_off4056 (i : grid0.Coords) : Fin 3 → Nat :=
  let c1_i32_4755 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7529 : BitVec 32 := Scalar.subi c1_i32_4755 v9
  let arg1 : BitVec 32 := BitVec.ofNat 32 (i 1).val
  let c2_i32_4751 : BitVec 32 := 2#32
  let v7525 : BitVec 32 := Scalar.muli arg1 c2_i32_4751
  let c1_i32_4752 : BitVec 32 := 1#32
  let v7526 : BitVec 32 := Scalar.addi v7525 c1_i32_4752
  let c256_i32_4753 : BitVec 32 := 256#32
  let v7527 : BitVec 32 := Scalar.muli v7526 c256_i32_4753
  let c240_i32_4754 : BitVec 32 := 240#32
  let v7528 : BitVec 32 := Scalar.addi v7527 c240_i32_4754
  let c8_i32_4758 : BitVec 32 := 8#32
  let v7533 : BitVec 32 := Scalar.muli v7528 c8_i32_4758
  let v7534 : BitVec 32 := v7533
  let c0_i32_4759 : BitVec 32 := 0#32
  ![v7529.toNat, v7534.toNat, 0]
def k0_off4057 (v7531 : BitVec 32) : Fin 2 → Nat :=
  let v7532 : BitVec 32 := v7531
  let c0_i32_4760 : BitVec 32 := 0#32
  ![v7532.toNat, 0]

def k0_chk1010 (i : grid0.Coords) (v7531 : BitVec 32) : Prop :=
  (∀ (k0_h3 : k0_cond3 i = 1#1), 8 ∣ (k0_mult2019 v7531).toNat) ∧
  (∀ (k0_h3 : k0_cond3 i = 1#1), ∀ a, (k0_off4057 v7531) a + S8x128.size a ≤ S131072x128.size a)
theorem k0_mult2019_dvd : ∀ (i : grid0.Coords) (v7531 : BitVec 32) (k0_hw1010 : k0_chk1010 i v7531), ∀ (k0_h3 : k0_cond3 i = 1#1), 8 ∣ (k0_mult2019 v7531).toNat := fun i v7531 k0_hw1010 k0_h3 => k0_hw1010.1 k0_h3
theorem k0_off4057_inb : ∀ (i : grid0.Coords) (v7531 : BitVec 32) (k0_hw1010 : k0_chk1010 i v7531), ∀ (k0_h3 : k0_cond3 i = 1#1), ∀ a, (k0_off4057 v7531) a + S8x128.size a ≤ S131072x128.size a := fun i v7531 k0_hw1010 k0_h3 => k0_hw1010.2 k0_h3

def k0_off4058 (i : grid0.Coords) : Fin 3 → Nat :=
  let c0_4766 : Index := 0#32
  let c0_4767 : Index := 0#32
  let arg1 : BitVec 32 := BitVec.ofNat 32 (i 1).val
  let c2_i32_4761 : BitVec 32 := 2#32
  let v7540 : BitVec 32 := Scalar.muli arg1 c2_i32_4761
  let c1_i32_4762 : BitVec 32 := 1#32
  let v7541 : BitVec 32 := Scalar.addi v7540 c1_i32_4762
  let c256_i32_4763 : BitVec 32 := 256#32
  let v7542 : BitVec 32 := Scalar.muli v7541 c256_i32_4763
  let c241_i32_4764 : BitVec 32 := 241#32
  let v7543 : BitVec 32 := Scalar.addi v7542 c241_i32_4764
  let v7545 : Index := Scalar.indexCast v7543
  ![0, 0, v7545.toNat]
def k0_mult2021 (v7546 : BitVec 32) : BitVec 32 :=
  v7546

def k0_mult2022 (i : grid0.Coords) : BitVec 32 :=
  let arg1 : BitVec 32 := BitVec.ofNat 32 (i 1).val
  let c2_i32_4761 : BitVec 32 := 2#32
  let v7540 : BitVec 32 := Scalar.muli arg1 c2_i32_4761
  let c1_i32_4762 : BitVec 32 := 1#32
  let v7541 : BitVec 32 := Scalar.addi v7540 c1_i32_4762
  let c256_i32_4763 : BitVec 32 := 256#32
  let v7542 : BitVec 32 := Scalar.muli v7541 c256_i32_4763
  let c241_i32_4764 : BitVec 32 := 241#32
  let v7543 : BitVec 32 := Scalar.addi v7542 c241_i32_4764
  let c8_i32_4768 : BitVec 32 := 8#32
  let v7548 : BitVec 32 := Scalar.muli v7543 c8_i32_4768
  v7548
def k0_off4059 (i : grid0.Coords) : Fin 1 → Nat :=
  let c1_i32_4765 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7544 : BitVec 32 := Scalar.subi c1_i32_4765 v9
  ![v7544.toNat]
def k0_off4060 (i : grid0.Coords) : Fin 3 → Nat :=
  let c1_i32_4765 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7544 : BitVec 32 := Scalar.subi c1_i32_4765 v9
  let arg1 : BitVec 32 := BitVec.ofNat 32 (i 1).val
  let c2_i32_4761 : BitVec 32 := 2#32
  let v7540 : BitVec 32 := Scalar.muli arg1 c2_i32_4761
  let c1_i32_4762 : BitVec 32 := 1#32
  let v7541 : BitVec 32 := Scalar.addi v7540 c1_i32_4762
  let c256_i32_4763 : BitVec 32 := 256#32
  let v7542 : BitVec 32 := Scalar.muli v7541 c256_i32_4763
  let c241_i32_4764 : BitVec 32 := 241#32
  let v7543 : BitVec 32 := Scalar.addi v7542 c241_i32_4764
  let c8_i32_4768 : BitVec 32 := 8#32
  let v7548 : BitVec 32 := Scalar.muli v7543 c8_i32_4768
  let v7549 : BitVec 32 := v7548
  let c0_i32_4769 : BitVec 32 := 0#32
  ![v7544.toNat, v7549.toNat, 0]
def k0_off4061 (v7546 : BitVec 32) : Fin 2 → Nat :=
  let v7547 : BitVec 32 := v7546
  let c0_i32_4770 : BitVec 32 := 0#32
  ![v7547.toNat, 0]

def k0_chk1011 (i : grid0.Coords) (v7546 : BitVec 32) : Prop :=
  (∀ (k0_h3 : k0_cond3 i = 1#1), 8 ∣ (k0_mult2021 v7546).toNat) ∧
  (∀ (k0_h3 : k0_cond3 i = 1#1), ∀ a, (k0_off4061 v7546) a + S8x128.size a ≤ S131072x128.size a)
theorem k0_mult2021_dvd : ∀ (i : grid0.Coords) (v7546 : BitVec 32) (k0_hw1011 : k0_chk1011 i v7546), ∀ (k0_h3 : k0_cond3 i = 1#1), 8 ∣ (k0_mult2021 v7546).toNat := fun i v7546 k0_hw1011 k0_h3 => k0_hw1011.1 k0_h3
theorem k0_off4061_inb : ∀ (i : grid0.Coords) (v7546 : BitVec 32) (k0_hw1011 : k0_chk1011 i v7546), ∀ (k0_h3 : k0_cond3 i = 1#1), ∀ a, (k0_off4061 v7546) a + S8x128.size a ≤ S131072x128.size a := fun i v7546 k0_hw1011 k0_h3 => k0_hw1011.2 k0_h3

def k0_off4062 (i : grid0.Coords) : Fin 3 → Nat :=
  let c0_4776 : Index := 0#32
  let c0_4777 : Index := 0#32
  let arg1 : BitVec 32 := BitVec.ofNat 32 (i 1).val
  let c2_i32_4771 : BitVec 32 := 2#32
  let v7555 : BitVec 32 := Scalar.muli arg1 c2_i32_4771
  let c1_i32_4772 : BitVec 32 := 1#32
  let v7556 : BitVec 32 := Scalar.addi v7555 c1_i32_4772
  let c256_i32_4773 : BitVec 32 := 256#32
  let v7557 : BitVec 32 := Scalar.muli v7556 c256_i32_4773
  let c242_i32_4774 : BitVec 32 := 242#32
  let v7558 : BitVec 32 := Scalar.addi v7557 c242_i32_4774
  let v7560 : Index := Scalar.indexCast v7558
  ![0, 0, v7560.toNat]
def k0_mult2023 (v7561 : BitVec 32) : BitVec 32 :=
  v7561

def k0_mult2024 (i : grid0.Coords) : BitVec 32 :=
  let arg1 : BitVec 32 := BitVec.ofNat 32 (i 1).val
  let c2_i32_4771 : BitVec 32 := 2#32
  let v7555 : BitVec 32 := Scalar.muli arg1 c2_i32_4771
  let c1_i32_4772 : BitVec 32 := 1#32
  let v7556 : BitVec 32 := Scalar.addi v7555 c1_i32_4772
  let c256_i32_4773 : BitVec 32 := 256#32
  let v7557 : BitVec 32 := Scalar.muli v7556 c256_i32_4773
  let c242_i32_4774 : BitVec 32 := 242#32
  let v7558 : BitVec 32 := Scalar.addi v7557 c242_i32_4774
  let c8_i32_4778 : BitVec 32 := 8#32
  let v7563 : BitVec 32 := Scalar.muli v7558 c8_i32_4778
  v7563
def k0_off4063 (i : grid0.Coords) : Fin 1 → Nat :=
  let c1_i32_4775 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7559 : BitVec 32 := Scalar.subi c1_i32_4775 v9
  ![v7559.toNat]
def k0_off4064 (i : grid0.Coords) : Fin 3 → Nat :=
  let c1_i32_4775 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7559 : BitVec 32 := Scalar.subi c1_i32_4775 v9
  let arg1 : BitVec 32 := BitVec.ofNat 32 (i 1).val
  let c2_i32_4771 : BitVec 32 := 2#32
  let v7555 : BitVec 32 := Scalar.muli arg1 c2_i32_4771
  let c1_i32_4772 : BitVec 32 := 1#32
  let v7556 : BitVec 32 := Scalar.addi v7555 c1_i32_4772
  let c256_i32_4773 : BitVec 32 := 256#32
  let v7557 : BitVec 32 := Scalar.muli v7556 c256_i32_4773
  let c242_i32_4774 : BitVec 32 := 242#32
  let v7558 : BitVec 32 := Scalar.addi v7557 c242_i32_4774
  let c8_i32_4778 : BitVec 32 := 8#32
  let v7563 : BitVec 32 := Scalar.muli v7558 c8_i32_4778
  let v7564 : BitVec 32 := v7563
  let c0_i32_4779 : BitVec 32 := 0#32
  ![v7559.toNat, v7564.toNat, 0]
def k0_off4065 (v7561 : BitVec 32) : Fin 2 → Nat :=
  let v7562 : BitVec 32 := v7561
  let c0_i32_4780 : BitVec 32 := 0#32
  ![v7562.toNat, 0]

def k0_chk1012 (i : grid0.Coords) (v7561 : BitVec 32) : Prop :=
  (∀ (k0_h3 : k0_cond3 i = 1#1), 8 ∣ (k0_mult2023 v7561).toNat) ∧
  (∀ (k0_h3 : k0_cond3 i = 1#1), ∀ a, (k0_off4065 v7561) a + S8x128.size a ≤ S131072x128.size a)
theorem k0_mult2023_dvd : ∀ (i : grid0.Coords) (v7561 : BitVec 32) (k0_hw1012 : k0_chk1012 i v7561), ∀ (k0_h3 : k0_cond3 i = 1#1), 8 ∣ (k0_mult2023 v7561).toNat := fun i v7561 k0_hw1012 k0_h3 => k0_hw1012.1 k0_h3
theorem k0_off4065_inb : ∀ (i : grid0.Coords) (v7561 : BitVec 32) (k0_hw1012 : k0_chk1012 i v7561), ∀ (k0_h3 : k0_cond3 i = 1#1), ∀ a, (k0_off4065 v7561) a + S8x128.size a ≤ S131072x128.size a := fun i v7561 k0_hw1012 k0_h3 => k0_hw1012.2 k0_h3

def k0_off4066 (i : grid0.Coords) : Fin 3 → Nat :=
  let c0_4786 : Index := 0#32
  let c0_4787 : Index := 0#32
  let arg1 : BitVec 32 := BitVec.ofNat 32 (i 1).val
  let c2_i32_4781 : BitVec 32 := 2#32
  let v7570 : BitVec 32 := Scalar.muli arg1 c2_i32_4781
  let c1_i32_4782 : BitVec 32 := 1#32
  let v7571 : BitVec 32 := Scalar.addi v7570 c1_i32_4782
  let c256_i32_4783 : BitVec 32 := 256#32
  let v7572 : BitVec 32 := Scalar.muli v7571 c256_i32_4783
  let c243_i32_4784 : BitVec 32 := 243#32
  let v7573 : BitVec 32 := Scalar.addi v7572 c243_i32_4784
  let v7575 : Index := Scalar.indexCast v7573
  ![0, 0, v7575.toNat]
def k0_mult2025 (v7576 : BitVec 32) : BitVec 32 :=
  v7576

def k0_mult2026 (i : grid0.Coords) : BitVec 32 :=
  let arg1 : BitVec 32 := BitVec.ofNat 32 (i 1).val
  let c2_i32_4781 : BitVec 32 := 2#32
  let v7570 : BitVec 32 := Scalar.muli arg1 c2_i32_4781
  let c1_i32_4782 : BitVec 32 := 1#32
  let v7571 : BitVec 32 := Scalar.addi v7570 c1_i32_4782
  let c256_i32_4783 : BitVec 32 := 256#32
  let v7572 : BitVec 32 := Scalar.muli v7571 c256_i32_4783
  let c243_i32_4784 : BitVec 32 := 243#32
  let v7573 : BitVec 32 := Scalar.addi v7572 c243_i32_4784
  let c8_i32_4788 : BitVec 32 := 8#32
  let v7578 : BitVec 32 := Scalar.muli v7573 c8_i32_4788
  v7578
def k0_off4067 (i : grid0.Coords) : Fin 1 → Nat :=
  let c1_i32_4785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7574 : BitVec 32 := Scalar.subi c1_i32_4785 v9
  ![v7574.toNat]
def k0_off4068 (i : grid0.Coords) : Fin 3 → Nat :=
  let c1_i32_4785 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7574 : BitVec 32 := Scalar.subi c1_i32_4785 v9
  let arg1 : BitVec 32 := BitVec.ofNat 32 (i 1).val
  let c2_i32_4781 : BitVec 32 := 2#32
  let v7570 : BitVec 32 := Scalar.muli arg1 c2_i32_4781
  let c1_i32_4782 : BitVec 32 := 1#32
  let v7571 : BitVec 32 := Scalar.addi v7570 c1_i32_4782
  let c256_i32_4783 : BitVec 32 := 256#32
  let v7572 : BitVec 32 := Scalar.muli v7571 c256_i32_4783
  let c243_i32_4784 : BitVec 32 := 243#32
  let v7573 : BitVec 32 := Scalar.addi v7572 c243_i32_4784
  let c8_i32_4788 : BitVec 32 := 8#32
  let v7578 : BitVec 32 := Scalar.muli v7573 c8_i32_4788
  let v7579 : BitVec 32 := v7578
  let c0_i32_4789 : BitVec 32 := 0#32
  ![v7574.toNat, v7579.toNat, 0]
def k0_off4069 (v7576 : BitVec 32) : Fin 2 → Nat :=
  let v7577 : BitVec 32 := v7576
  let c0_i32_4790 : BitVec 32 := 0#32
  ![v7577.toNat, 0]

def k0_chk1013 (i : grid0.Coords) (v7576 : BitVec 32) : Prop :=
  (∀ (k0_h3 : k0_cond3 i = 1#1), 8 ∣ (k0_mult2025 v7576).toNat) ∧
  (∀ (k0_h3 : k0_cond3 i = 1#1), ∀ a, (k0_off4069 v7576) a + S8x128.size a ≤ S131072x128.size a)
theorem k0_mult2025_dvd : ∀ (i : grid0.Coords) (v7576 : BitVec 32) (k0_hw1013 : k0_chk1013 i v7576), ∀ (k0_h3 : k0_cond3 i = 1#1), 8 ∣ (k0_mult2025 v7576).toNat := fun i v7576 k0_hw1013 k0_h3 => k0_hw1013.1 k0_h3
theorem k0_off4069_inb : ∀ (i : grid0.Coords) (v7576 : BitVec 32) (k0_hw1013 : k0_chk1013 i v7576), ∀ (k0_h3 : k0_cond3 i = 1#1), ∀ a, (k0_off4069 v7576) a + S8x128.size a ≤ S131072x128.size a := fun i v7576 k0_hw1013 k0_h3 => k0_hw1013.2 k0_h3

def k0_off4070 (i : grid0.Coords) : Fin 3 → Nat :=
  let c0_4796 : Index := 0#32
  let c0_4797 : Index := 0#32
  let arg1 : BitVec 32 := BitVec.ofNat 32 (i 1).val
  let c2_i32_4791 : BitVec 32 := 2#32
  let v7585 : BitVec 32 := Scalar.muli arg1 c2_i32_4791
  let c1_i32_4792 : BitVec 32 := 1#32
  let v7586 : BitVec 32 := Scalar.addi v7585 c1_i32_4792
  let c256_i32_4793 : BitVec 32 := 256#32
  let v7587 : BitVec 32 := Scalar.muli v7586 c256_i32_4793
  let c244_i32_4794 : BitVec 32 := 244#32
  let v7588 : BitVec 32 := Scalar.addi v7587 c244_i32_4794
  let v7590 : Index := Scalar.indexCast v7588
  ![0, 0, v7590.toNat]
def k0_mult2027 (v7591 : BitVec 32) : BitVec 32 :=
  v7591

def k0_mult2028 (i : grid0.Coords) : BitVec 32 :=
  let arg1 : BitVec 32 := BitVec.ofNat 32 (i 1).val
  let c2_i32_4791 : BitVec 32 := 2#32
  let v7585 : BitVec 32 := Scalar.muli arg1 c2_i32_4791
  let c1_i32_4792 : BitVec 32 := 1#32
  let v7586 : BitVec 32 := Scalar.addi v7585 c1_i32_4792
  let c256_i32_4793 : BitVec 32 := 256#32
  let v7587 : BitVec 32 := Scalar.muli v7586 c256_i32_4793
  let c244_i32_4794 : BitVec 32 := 244#32
  let v7588 : BitVec 32 := Scalar.addi v7587 c244_i32_4794
  let c8_i32_4798 : BitVec 32 := 8#32
  let v7593 : BitVec 32 := Scalar.muli v7588 c8_i32_4798
  v7593
def k0_off4071 (i : grid0.Coords) : Fin 1 → Nat :=
  let c1_i32_4795 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7589 : BitVec 32 := Scalar.subi c1_i32_4795 v9
  ![v7589.toNat]
def k0_off4072 (i : grid0.Coords) : Fin 3 → Nat :=
  let c1_i32_4795 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7589 : BitVec 32 := Scalar.subi c1_i32_4795 v9
  let arg1 : BitVec 32 := BitVec.ofNat 32 (i 1).val
  let c2_i32_4791 : BitVec 32 := 2#32
  let v7585 : BitVec 32 := Scalar.muli arg1 c2_i32_4791
  let c1_i32_4792 : BitVec 32 := 1#32
  let v7586 : BitVec 32 := Scalar.addi v7585 c1_i32_4792
  let c256_i32_4793 : BitVec 32 := 256#32
  let v7587 : BitVec 32 := Scalar.muli v7586 c256_i32_4793
  let c244_i32_4794 : BitVec 32 := 244#32
  let v7588 : BitVec 32 := Scalar.addi v7587 c244_i32_4794
  let c8_i32_4798 : BitVec 32 := 8#32
  let v7593 : BitVec 32 := Scalar.muli v7588 c8_i32_4798
  let v7594 : BitVec 32 := v7593
  let c0_i32_4799 : BitVec 32 := 0#32
  ![v7589.toNat, v7594.toNat, 0]
def k0_off4073 (v7591 : BitVec 32) : Fin 2 → Nat :=
  let v7592 : BitVec 32 := v7591
  let c0_i32_4800 : BitVec 32 := 0#32
  ![v7592.toNat, 0]

def k0_chk1014 (i : grid0.Coords) (v7591 : BitVec 32) : Prop :=
  (∀ (k0_h3 : k0_cond3 i = 1#1), 8 ∣ (k0_mult2027 v7591).toNat) ∧
  (∀ (k0_h3 : k0_cond3 i = 1#1), ∀ a, (k0_off4073 v7591) a + S8x128.size a ≤ S131072x128.size a)
theorem k0_mult2027_dvd : ∀ (i : grid0.Coords) (v7591 : BitVec 32) (k0_hw1014 : k0_chk1014 i v7591), ∀ (k0_h3 : k0_cond3 i = 1#1), 8 ∣ (k0_mult2027 v7591).toNat := fun i v7591 k0_hw1014 k0_h3 => k0_hw1014.1 k0_h3
theorem k0_off4073_inb : ∀ (i : grid0.Coords) (v7591 : BitVec 32) (k0_hw1014 : k0_chk1014 i v7591), ∀ (k0_h3 : k0_cond3 i = 1#1), ∀ a, (k0_off4073 v7591) a + S8x128.size a ≤ S131072x128.size a := fun i v7591 k0_hw1014 k0_h3 => k0_hw1014.2 k0_h3

def k0_off4074 (i : grid0.Coords) : Fin 3 → Nat :=
  let c0_4806 : Index := 0#32
  let c0_4807 : Index := 0#32
  let arg1 : BitVec 32 := BitVec.ofNat 32 (i 1).val
  let c2_i32_4801 : BitVec 32 := 2#32
  let v7600 : BitVec 32 := Scalar.muli arg1 c2_i32_4801
  let c1_i32_4802 : BitVec 32 := 1#32
  let v7601 : BitVec 32 := Scalar.addi v7600 c1_i32_4802
  let c256_i32_4803 : BitVec 32 := 256#32
  let v7602 : BitVec 32 := Scalar.muli v7601 c256_i32_4803
  let c245_i32_4804 : BitVec 32 := 245#32
  let v7603 : BitVec 32 := Scalar.addi v7602 c245_i32_4804
  let v7605 : Index := Scalar.indexCast v7603
  ![0, 0, v7605.toNat]
def k0_mult2029 (v7606 : BitVec 32) : BitVec 32 :=
  v7606

def k0_mult2030 (i : grid0.Coords) : BitVec 32 :=
  let arg1 : BitVec 32 := BitVec.ofNat 32 (i 1).val
  let c2_i32_4801 : BitVec 32 := 2#32
  let v7600 : BitVec 32 := Scalar.muli arg1 c2_i32_4801
  let c1_i32_4802 : BitVec 32 := 1#32
  let v7601 : BitVec 32 := Scalar.addi v7600 c1_i32_4802
  let c256_i32_4803 : BitVec 32 := 256#32
  let v7602 : BitVec 32 := Scalar.muli v7601 c256_i32_4803
  let c245_i32_4804 : BitVec 32 := 245#32
  let v7603 : BitVec 32 := Scalar.addi v7602 c245_i32_4804
  let c8_i32_4808 : BitVec 32 := 8#32
  let v7608 : BitVec 32 := Scalar.muli v7603 c8_i32_4808
  v7608
def k0_off4075 (i : grid0.Coords) : Fin 1 → Nat :=
  let c1_i32_4805 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7604 : BitVec 32 := Scalar.subi c1_i32_4805 v9
  ![v7604.toNat]
def k0_off4076 (i : grid0.Coords) : Fin 3 → Nat :=
  let c1_i32_4805 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7604 : BitVec 32 := Scalar.subi c1_i32_4805 v9
  let arg1 : BitVec 32 := BitVec.ofNat 32 (i 1).val
  let c2_i32_4801 : BitVec 32 := 2#32
  let v7600 : BitVec 32 := Scalar.muli arg1 c2_i32_4801
  let c1_i32_4802 : BitVec 32 := 1#32
  let v7601 : BitVec 32 := Scalar.addi v7600 c1_i32_4802
  let c256_i32_4803 : BitVec 32 := 256#32
  let v7602 : BitVec 32 := Scalar.muli v7601 c256_i32_4803
  let c245_i32_4804 : BitVec 32 := 245#32
  let v7603 : BitVec 32 := Scalar.addi v7602 c245_i32_4804
  let c8_i32_4808 : BitVec 32 := 8#32
  let v7608 : BitVec 32 := Scalar.muli v7603 c8_i32_4808
  let v7609 : BitVec 32 := v7608
  let c0_i32_4809 : BitVec 32 := 0#32
  ![v7604.toNat, v7609.toNat, 0]
def k0_off4077 (v7606 : BitVec 32) : Fin 2 → Nat :=
  let v7607 : BitVec 32 := v7606
  let c0_i32_4810 : BitVec 32 := 0#32
  ![v7607.toNat, 0]

def k0_chk1015 (i : grid0.Coords) (v7606 : BitVec 32) : Prop :=
  (∀ (k0_h3 : k0_cond3 i = 1#1), 8 ∣ (k0_mult2029 v7606).toNat) ∧
  (∀ (k0_h3 : k0_cond3 i = 1#1), ∀ a, (k0_off4077 v7606) a + S8x128.size a ≤ S131072x128.size a)
theorem k0_mult2029_dvd : ∀ (i : grid0.Coords) (v7606 : BitVec 32) (k0_hw1015 : k0_chk1015 i v7606), ∀ (k0_h3 : k0_cond3 i = 1#1), 8 ∣ (k0_mult2029 v7606).toNat := fun i v7606 k0_hw1015 k0_h3 => k0_hw1015.1 k0_h3
theorem k0_off4077_inb : ∀ (i : grid0.Coords) (v7606 : BitVec 32) (k0_hw1015 : k0_chk1015 i v7606), ∀ (k0_h3 : k0_cond3 i = 1#1), ∀ a, (k0_off4077 v7606) a + S8x128.size a ≤ S131072x128.size a := fun i v7606 k0_hw1015 k0_h3 => k0_hw1015.2 k0_h3

def k0_off4078 (i : grid0.Coords) : Fin 3 → Nat :=
  let c0_4816 : Index := 0#32
  let c0_4817 : Index := 0#32
  let arg1 : BitVec 32 := BitVec.ofNat 32 (i 1).val
  let c2_i32_4811 : BitVec 32 := 2#32
  let v7615 : BitVec 32 := Scalar.muli arg1 c2_i32_4811
  let c1_i32_4812 : BitVec 32 := 1#32
  let v7616 : BitVec 32 := Scalar.addi v7615 c1_i32_4812
  let c256_i32_4813 : BitVec 32 := 256#32
  let v7617 : BitVec 32 := Scalar.muli v7616 c256_i32_4813
  let c246_i32_4814 : BitVec 32 := 246#32
  let v7618 : BitVec 32 := Scalar.addi v7617 c246_i32_4814
  let v7620 : Index := Scalar.indexCast v7618
  ![0, 0, v7620.toNat]
def k0_mult2031 (v7621 : BitVec 32) : BitVec 32 :=
  v7621

def k0_mult2032 (i : grid0.Coords) : BitVec 32 :=
  let arg1 : BitVec 32 := BitVec.ofNat 32 (i 1).val
  let c2_i32_4811 : BitVec 32 := 2#32
  let v7615 : BitVec 32 := Scalar.muli arg1 c2_i32_4811
  let c1_i32_4812 : BitVec 32 := 1#32
  let v7616 : BitVec 32 := Scalar.addi v7615 c1_i32_4812
  let c256_i32_4813 : BitVec 32 := 256#32
  let v7617 : BitVec 32 := Scalar.muli v7616 c256_i32_4813
  let c246_i32_4814 : BitVec 32 := 246#32
  let v7618 : BitVec 32 := Scalar.addi v7617 c246_i32_4814
  let c8_i32_4818 : BitVec 32 := 8#32
  let v7623 : BitVec 32 := Scalar.muli v7618 c8_i32_4818
  v7623
def k0_off4079 (i : grid0.Coords) : Fin 1 → Nat :=
  let c1_i32_4815 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7619 : BitVec 32 := Scalar.subi c1_i32_4815 v9
  ![v7619.toNat]
def k0_off4080 (i : grid0.Coords) : Fin 3 → Nat :=
  let c1_i32_4815 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7619 : BitVec 32 := Scalar.subi c1_i32_4815 v9
  let arg1 : BitVec 32 := BitVec.ofNat 32 (i 1).val
  let c2_i32_4811 : BitVec 32 := 2#32
  let v7615 : BitVec 32 := Scalar.muli arg1 c2_i32_4811
  let c1_i32_4812 : BitVec 32 := 1#32
  let v7616 : BitVec 32 := Scalar.addi v7615 c1_i32_4812
  let c256_i32_4813 : BitVec 32 := 256#32
  let v7617 : BitVec 32 := Scalar.muli v7616 c256_i32_4813
  let c246_i32_4814 : BitVec 32 := 246#32
  let v7618 : BitVec 32 := Scalar.addi v7617 c246_i32_4814
  let c8_i32_4818 : BitVec 32 := 8#32
  let v7623 : BitVec 32 := Scalar.muli v7618 c8_i32_4818
  let v7624 : BitVec 32 := v7623
  let c0_i32_4819 : BitVec 32 := 0#32
  ![v7619.toNat, v7624.toNat, 0]
def k0_off4081 (v7621 : BitVec 32) : Fin 2 → Nat :=
  let v7622 : BitVec 32 := v7621
  let c0_i32_4820 : BitVec 32 := 0#32
  ![v7622.toNat, 0]

def k0_chk1016 (i : grid0.Coords) (v7621 : BitVec 32) : Prop :=
  (∀ (k0_h3 : k0_cond3 i = 1#1), 8 ∣ (k0_mult2031 v7621).toNat) ∧
  (∀ (k0_h3 : k0_cond3 i = 1#1), ∀ a, (k0_off4081 v7621) a + S8x128.size a ≤ S131072x128.size a)
theorem k0_mult2031_dvd : ∀ (i : grid0.Coords) (v7621 : BitVec 32) (k0_hw1016 : k0_chk1016 i v7621), ∀ (k0_h3 : k0_cond3 i = 1#1), 8 ∣ (k0_mult2031 v7621).toNat := fun i v7621 k0_hw1016 k0_h3 => k0_hw1016.1 k0_h3
theorem k0_off4081_inb : ∀ (i : grid0.Coords) (v7621 : BitVec 32) (k0_hw1016 : k0_chk1016 i v7621), ∀ (k0_h3 : k0_cond3 i = 1#1), ∀ a, (k0_off4081 v7621) a + S8x128.size a ≤ S131072x128.size a := fun i v7621 k0_hw1016 k0_h3 => k0_hw1016.2 k0_h3

def k0_off4082 (i : grid0.Coords) : Fin 3 → Nat :=
  let c0_4826 : Index := 0#32
  let c0_4827 : Index := 0#32
  let arg1 : BitVec 32 := BitVec.ofNat 32 (i 1).val
  let c2_i32_4821 : BitVec 32 := 2#32
  let v7630 : BitVec 32 := Scalar.muli arg1 c2_i32_4821
  let c1_i32_4822 : BitVec 32 := 1#32
  let v7631 : BitVec 32 := Scalar.addi v7630 c1_i32_4822
  let c256_i32_4823 : BitVec 32 := 256#32
  let v7632 : BitVec 32 := Scalar.muli v7631 c256_i32_4823
  let c247_i32_4824 : BitVec 32 := 247#32
  let v7633 : BitVec 32 := Scalar.addi v7632 c247_i32_4824
  let v7635 : Index := Scalar.indexCast v7633
  ![0, 0, v7635.toNat]
def k0_mult2033 (v7636 : BitVec 32) : BitVec 32 :=
  v7636

def k0_mult2034 (i : grid0.Coords) : BitVec 32 :=
  let arg1 : BitVec 32 := BitVec.ofNat 32 (i 1).val
  let c2_i32_4821 : BitVec 32 := 2#32
  let v7630 : BitVec 32 := Scalar.muli arg1 c2_i32_4821
  let c1_i32_4822 : BitVec 32 := 1#32
  let v7631 : BitVec 32 := Scalar.addi v7630 c1_i32_4822
  let c256_i32_4823 : BitVec 32 := 256#32
  let v7632 : BitVec 32 := Scalar.muli v7631 c256_i32_4823
  let c247_i32_4824 : BitVec 32 := 247#32
  let v7633 : BitVec 32 := Scalar.addi v7632 c247_i32_4824
  let c8_i32_4828 : BitVec 32 := 8#32
  let v7638 : BitVec 32 := Scalar.muli v7633 c8_i32_4828
  v7638
def k0_off4083 (i : grid0.Coords) : Fin 1 → Nat :=
  let c1_i32_4825 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7634 : BitVec 32 := Scalar.subi c1_i32_4825 v9
  ![v7634.toNat]
def k0_off4084 (i : grid0.Coords) : Fin 3 → Nat :=
  let c1_i32_4825 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7634 : BitVec 32 := Scalar.subi c1_i32_4825 v9
  let arg1 : BitVec 32 := BitVec.ofNat 32 (i 1).val
  let c2_i32_4821 : BitVec 32 := 2#32
  let v7630 : BitVec 32 := Scalar.muli arg1 c2_i32_4821
  let c1_i32_4822 : BitVec 32 := 1#32
  let v7631 : BitVec 32 := Scalar.addi v7630 c1_i32_4822
  let c256_i32_4823 : BitVec 32 := 256#32
  let v7632 : BitVec 32 := Scalar.muli v7631 c256_i32_4823
  let c247_i32_4824 : BitVec 32 := 247#32
  let v7633 : BitVec 32 := Scalar.addi v7632 c247_i32_4824
  let c8_i32_4828 : BitVec 32 := 8#32
  let v7638 : BitVec 32 := Scalar.muli v7633 c8_i32_4828
  let v7639 : BitVec 32 := v7638
  let c0_i32_4829 : BitVec 32 := 0#32
  ![v7634.toNat, v7639.toNat, 0]
def k0_off4085 (v7636 : BitVec 32) : Fin 2 → Nat :=
  let v7637 : BitVec 32 := v7636
  let c0_i32_4830 : BitVec 32 := 0#32
  ![v7637.toNat, 0]

def k0_chk1017 (i : grid0.Coords) (v7636 : BitVec 32) : Prop :=
  (∀ (k0_h3 : k0_cond3 i = 1#1), 8 ∣ (k0_mult2033 v7636).toNat) ∧
  (∀ (k0_h3 : k0_cond3 i = 1#1), ∀ a, (k0_off4085 v7636) a + S8x128.size a ≤ S131072x128.size a)
theorem k0_mult2033_dvd : ∀ (i : grid0.Coords) (v7636 : BitVec 32) (k0_hw1017 : k0_chk1017 i v7636), ∀ (k0_h3 : k0_cond3 i = 1#1), 8 ∣ (k0_mult2033 v7636).toNat := fun i v7636 k0_hw1017 k0_h3 => k0_hw1017.1 k0_h3
theorem k0_off4085_inb : ∀ (i : grid0.Coords) (v7636 : BitVec 32) (k0_hw1017 : k0_chk1017 i v7636), ∀ (k0_h3 : k0_cond3 i = 1#1), ∀ a, (k0_off4085 v7636) a + S8x128.size a ≤ S131072x128.size a := fun i v7636 k0_hw1017 k0_h3 => k0_hw1017.2 k0_h3

def k0_off4086 (i : grid0.Coords) : Fin 3 → Nat :=
  let c0_4836 : Index := 0#32
  let c0_4837 : Index := 0#32
  let arg1 : BitVec 32 := BitVec.ofNat 32 (i 1).val
  let c2_i32_4831 : BitVec 32 := 2#32
  let v7645 : BitVec 32 := Scalar.muli arg1 c2_i32_4831
  let c1_i32_4832 : BitVec 32 := 1#32
  let v7646 : BitVec 32 := Scalar.addi v7645 c1_i32_4832
  let c256_i32_4833 : BitVec 32 := 256#32
  let v7647 : BitVec 32 := Scalar.muli v7646 c256_i32_4833
  let c248_i32_4834 : BitVec 32 := 248#32
  let v7648 : BitVec 32 := Scalar.addi v7647 c248_i32_4834
  let v7650 : Index := Scalar.indexCast v7648
  ![0, 0, v7650.toNat]
def k0_mult2035 (v7651 : BitVec 32) : BitVec 32 :=
  v7651

def k0_mult2036 (i : grid0.Coords) : BitVec 32 :=
  let arg1 : BitVec 32 := BitVec.ofNat 32 (i 1).val
  let c2_i32_4831 : BitVec 32 := 2#32
  let v7645 : BitVec 32 := Scalar.muli arg1 c2_i32_4831
  let c1_i32_4832 : BitVec 32 := 1#32
  let v7646 : BitVec 32 := Scalar.addi v7645 c1_i32_4832
  let c256_i32_4833 : BitVec 32 := 256#32
  let v7647 : BitVec 32 := Scalar.muli v7646 c256_i32_4833
  let c248_i32_4834 : BitVec 32 := 248#32
  let v7648 : BitVec 32 := Scalar.addi v7647 c248_i32_4834
  let c8_i32_4838 : BitVec 32 := 8#32
  let v7653 : BitVec 32 := Scalar.muli v7648 c8_i32_4838
  v7653
def k0_off4087 (i : grid0.Coords) : Fin 1 → Nat :=
  let c1_i32_4835 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7649 : BitVec 32 := Scalar.subi c1_i32_4835 v9
  ![v7649.toNat]
def k0_off4088 (i : grid0.Coords) : Fin 3 → Nat :=
  let c1_i32_4835 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7649 : BitVec 32 := Scalar.subi c1_i32_4835 v9
  let arg1 : BitVec 32 := BitVec.ofNat 32 (i 1).val
  let c2_i32_4831 : BitVec 32 := 2#32
  let v7645 : BitVec 32 := Scalar.muli arg1 c2_i32_4831
  let c1_i32_4832 : BitVec 32 := 1#32
  let v7646 : BitVec 32 := Scalar.addi v7645 c1_i32_4832
  let c256_i32_4833 : BitVec 32 := 256#32
  let v7647 : BitVec 32 := Scalar.muli v7646 c256_i32_4833
  let c248_i32_4834 : BitVec 32 := 248#32
  let v7648 : BitVec 32 := Scalar.addi v7647 c248_i32_4834
  let c8_i32_4838 : BitVec 32 := 8#32
  let v7653 : BitVec 32 := Scalar.muli v7648 c8_i32_4838
  let v7654 : BitVec 32 := v7653
  let c0_i32_4839 : BitVec 32 := 0#32
  ![v7649.toNat, v7654.toNat, 0]
def k0_off4089 (v7651 : BitVec 32) : Fin 2 → Nat :=
  let v7652 : BitVec 32 := v7651
  let c0_i32_4840 : BitVec 32 := 0#32
  ![v7652.toNat, 0]

def k0_chk1018 (i : grid0.Coords) (v7651 : BitVec 32) : Prop :=
  (∀ (k0_h3 : k0_cond3 i = 1#1), 8 ∣ (k0_mult2035 v7651).toNat) ∧
  (∀ (k0_h3 : k0_cond3 i = 1#1), ∀ a, (k0_off4089 v7651) a + S8x128.size a ≤ S131072x128.size a)
theorem k0_mult2035_dvd : ∀ (i : grid0.Coords) (v7651 : BitVec 32) (k0_hw1018 : k0_chk1018 i v7651), ∀ (k0_h3 : k0_cond3 i = 1#1), 8 ∣ (k0_mult2035 v7651).toNat := fun i v7651 k0_hw1018 k0_h3 => k0_hw1018.1 k0_h3
theorem k0_off4089_inb : ∀ (i : grid0.Coords) (v7651 : BitVec 32) (k0_hw1018 : k0_chk1018 i v7651), ∀ (k0_h3 : k0_cond3 i = 1#1), ∀ a, (k0_off4089 v7651) a + S8x128.size a ≤ S131072x128.size a := fun i v7651 k0_hw1018 k0_h3 => k0_hw1018.2 k0_h3

def k0_off4090 (i : grid0.Coords) : Fin 3 → Nat :=
  let c0_4846 : Index := 0#32
  let c0_4847 : Index := 0#32
  let arg1 : BitVec 32 := BitVec.ofNat 32 (i 1).val
  let c2_i32_4841 : BitVec 32 := 2#32
  let v7660 : BitVec 32 := Scalar.muli arg1 c2_i32_4841
  let c1_i32_4842 : BitVec 32 := 1#32
  let v7661 : BitVec 32 := Scalar.addi v7660 c1_i32_4842
  let c256_i32_4843 : BitVec 32 := 256#32
  let v7662 : BitVec 32 := Scalar.muli v7661 c256_i32_4843
  let c249_i32_4844 : BitVec 32 := 249#32
  let v7663 : BitVec 32 := Scalar.addi v7662 c249_i32_4844
  let v7665 : Index := Scalar.indexCast v7663
  ![0, 0, v7665.toNat]
def k0_mult2037 (v7666 : BitVec 32) : BitVec 32 :=
  v7666

def k0_mult2038 (i : grid0.Coords) : BitVec 32 :=
  let arg1 : BitVec 32 := BitVec.ofNat 32 (i 1).val
  let c2_i32_4841 : BitVec 32 := 2#32
  let v7660 : BitVec 32 := Scalar.muli arg1 c2_i32_4841
  let c1_i32_4842 : BitVec 32 := 1#32
  let v7661 : BitVec 32 := Scalar.addi v7660 c1_i32_4842
  let c256_i32_4843 : BitVec 32 := 256#32
  let v7662 : BitVec 32 := Scalar.muli v7661 c256_i32_4843
  let c249_i32_4844 : BitVec 32 := 249#32
  let v7663 : BitVec 32 := Scalar.addi v7662 c249_i32_4844
  let c8_i32_4848 : BitVec 32 := 8#32
  let v7668 : BitVec 32 := Scalar.muli v7663 c8_i32_4848
  v7668
def k0_off4091 (i : grid0.Coords) : Fin 1 → Nat :=
  let c1_i32_4845 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7664 : BitVec 32 := Scalar.subi c1_i32_4845 v9
  ![v7664.toNat]
def k0_off4092 (i : grid0.Coords) : Fin 3 → Nat :=
  let c1_i32_4845 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7664 : BitVec 32 := Scalar.subi c1_i32_4845 v9
  let arg1 : BitVec 32 := BitVec.ofNat 32 (i 1).val
  let c2_i32_4841 : BitVec 32 := 2#32
  let v7660 : BitVec 32 := Scalar.muli arg1 c2_i32_4841
  let c1_i32_4842 : BitVec 32 := 1#32
  let v7661 : BitVec 32 := Scalar.addi v7660 c1_i32_4842
  let c256_i32_4843 : BitVec 32 := 256#32
  let v7662 : BitVec 32 := Scalar.muli v7661 c256_i32_4843
  let c249_i32_4844 : BitVec 32 := 249#32
  let v7663 : BitVec 32 := Scalar.addi v7662 c249_i32_4844
  let c8_i32_4848 : BitVec 32 := 8#32
  let v7668 : BitVec 32 := Scalar.muli v7663 c8_i32_4848
  let v7669 : BitVec 32 := v7668
  let c0_i32_4849 : BitVec 32 := 0#32
  ![v7664.toNat, v7669.toNat, 0]
def k0_off4093 (v7666 : BitVec 32) : Fin 2 → Nat :=
  let v7667 : BitVec 32 := v7666
  let c0_i32_4850 : BitVec 32 := 0#32
  ![v7667.toNat, 0]

def k0_chk1019 (i : grid0.Coords) (v7666 : BitVec 32) : Prop :=
  (∀ (k0_h3 : k0_cond3 i = 1#1), 8 ∣ (k0_mult2037 v7666).toNat) ∧
  (∀ (k0_h3 : k0_cond3 i = 1#1), ∀ a, (k0_off4093 v7666) a + S8x128.size a ≤ S131072x128.size a)
theorem k0_mult2037_dvd : ∀ (i : grid0.Coords) (v7666 : BitVec 32) (k0_hw1019 : k0_chk1019 i v7666), ∀ (k0_h3 : k0_cond3 i = 1#1), 8 ∣ (k0_mult2037 v7666).toNat := fun i v7666 k0_hw1019 k0_h3 => k0_hw1019.1 k0_h3
theorem k0_off4093_inb : ∀ (i : grid0.Coords) (v7666 : BitVec 32) (k0_hw1019 : k0_chk1019 i v7666), ∀ (k0_h3 : k0_cond3 i = 1#1), ∀ a, (k0_off4093 v7666) a + S8x128.size a ≤ S131072x128.size a := fun i v7666 k0_hw1019 k0_h3 => k0_hw1019.2 k0_h3

def k0_off4094 (i : grid0.Coords) : Fin 3 → Nat :=
  let c0_4856 : Index := 0#32
  let c0_4857 : Index := 0#32
  let arg1 : BitVec 32 := BitVec.ofNat 32 (i 1).val
  let c2_i32_4851 : BitVec 32 := 2#32
  let v7675 : BitVec 32 := Scalar.muli arg1 c2_i32_4851
  let c1_i32_4852 : BitVec 32 := 1#32
  let v7676 : BitVec 32 := Scalar.addi v7675 c1_i32_4852
  let c256_i32_4853 : BitVec 32 := 256#32
  let v7677 : BitVec 32 := Scalar.muli v7676 c256_i32_4853
  let c250_i32_4854 : BitVec 32 := 250#32
  let v7678 : BitVec 32 := Scalar.addi v7677 c250_i32_4854
  let v7680 : Index := Scalar.indexCast v7678
  ![0, 0, v7680.toNat]
def k0_mult2039 (v7681 : BitVec 32) : BitVec 32 :=
  v7681

def k0_mult2040 (i : grid0.Coords) : BitVec 32 :=
  let arg1 : BitVec 32 := BitVec.ofNat 32 (i 1).val
  let c2_i32_4851 : BitVec 32 := 2#32
  let v7675 : BitVec 32 := Scalar.muli arg1 c2_i32_4851
  let c1_i32_4852 : BitVec 32 := 1#32
  let v7676 : BitVec 32 := Scalar.addi v7675 c1_i32_4852
  let c256_i32_4853 : BitVec 32 := 256#32
  let v7677 : BitVec 32 := Scalar.muli v7676 c256_i32_4853
  let c250_i32_4854 : BitVec 32 := 250#32
  let v7678 : BitVec 32 := Scalar.addi v7677 c250_i32_4854
  let c8_i32_4858 : BitVec 32 := 8#32
  let v7683 : BitVec 32 := Scalar.muli v7678 c8_i32_4858
  v7683
def k0_off4095 (i : grid0.Coords) : Fin 1 → Nat :=
  let c1_i32_4855 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7679 : BitVec 32 := Scalar.subi c1_i32_4855 v9
  ![v7679.toNat]
def k0_off4096 (i : grid0.Coords) : Fin 3 → Nat :=
  let c1_i32_4855 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7679 : BitVec 32 := Scalar.subi c1_i32_4855 v9
  let arg1 : BitVec 32 := BitVec.ofNat 32 (i 1).val
  let c2_i32_4851 : BitVec 32 := 2#32
  let v7675 : BitVec 32 := Scalar.muli arg1 c2_i32_4851
  let c1_i32_4852 : BitVec 32 := 1#32
  let v7676 : BitVec 32 := Scalar.addi v7675 c1_i32_4852
  let c256_i32_4853 : BitVec 32 := 256#32
  let v7677 : BitVec 32 := Scalar.muli v7676 c256_i32_4853
  let c250_i32_4854 : BitVec 32 := 250#32
  let v7678 : BitVec 32 := Scalar.addi v7677 c250_i32_4854
  let c8_i32_4858 : BitVec 32 := 8#32
  let v7683 : BitVec 32 := Scalar.muli v7678 c8_i32_4858
  let v7684 : BitVec 32 := v7683
  let c0_i32_4859 : BitVec 32 := 0#32
  ![v7679.toNat, v7684.toNat, 0]
def k0_off4097 (v7681 : BitVec 32) : Fin 2 → Nat :=
  let v7682 : BitVec 32 := v7681
  let c0_i32_4860 : BitVec 32 := 0#32
  ![v7682.toNat, 0]

def k0_chk1020 (i : grid0.Coords) (v7681 : BitVec 32) : Prop :=
  (∀ (k0_h3 : k0_cond3 i = 1#1), 8 ∣ (k0_mult2039 v7681).toNat) ∧
  (∀ (k0_h3 : k0_cond3 i = 1#1), ∀ a, (k0_off4097 v7681) a + S8x128.size a ≤ S131072x128.size a)
theorem k0_mult2039_dvd : ∀ (i : grid0.Coords) (v7681 : BitVec 32) (k0_hw1020 : k0_chk1020 i v7681), ∀ (k0_h3 : k0_cond3 i = 1#1), 8 ∣ (k0_mult2039 v7681).toNat := fun i v7681 k0_hw1020 k0_h3 => k0_hw1020.1 k0_h3
theorem k0_off4097_inb : ∀ (i : grid0.Coords) (v7681 : BitVec 32) (k0_hw1020 : k0_chk1020 i v7681), ∀ (k0_h3 : k0_cond3 i = 1#1), ∀ a, (k0_off4097 v7681) a + S8x128.size a ≤ S131072x128.size a := fun i v7681 k0_hw1020 k0_h3 => k0_hw1020.2 k0_h3

def k0_off4098 (i : grid0.Coords) : Fin 3 → Nat :=
  let c0_4866 : Index := 0#32
  let c0_4867 : Index := 0#32
  let arg1 : BitVec 32 := BitVec.ofNat 32 (i 1).val
  let c2_i32_4861 : BitVec 32 := 2#32
  let v7690 : BitVec 32 := Scalar.muli arg1 c2_i32_4861
  let c1_i32_4862 : BitVec 32 := 1#32
  let v7691 : BitVec 32 := Scalar.addi v7690 c1_i32_4862
  let c256_i32_4863 : BitVec 32 := 256#32
  let v7692 : BitVec 32 := Scalar.muli v7691 c256_i32_4863
  let c251_i32_4864 : BitVec 32 := 251#32
  let v7693 : BitVec 32 := Scalar.addi v7692 c251_i32_4864
  let v7695 : Index := Scalar.indexCast v7693
  ![0, 0, v7695.toNat]
def k0_mult2041 (v7696 : BitVec 32) : BitVec 32 :=
  v7696

def k0_mult2042 (i : grid0.Coords) : BitVec 32 :=
  let arg1 : BitVec 32 := BitVec.ofNat 32 (i 1).val
  let c2_i32_4861 : BitVec 32 := 2#32
  let v7690 : BitVec 32 := Scalar.muli arg1 c2_i32_4861
  let c1_i32_4862 : BitVec 32 := 1#32
  let v7691 : BitVec 32 := Scalar.addi v7690 c1_i32_4862
  let c256_i32_4863 : BitVec 32 := 256#32
  let v7692 : BitVec 32 := Scalar.muli v7691 c256_i32_4863
  let c251_i32_4864 : BitVec 32 := 251#32
  let v7693 : BitVec 32 := Scalar.addi v7692 c251_i32_4864
  let c8_i32_4868 : BitVec 32 := 8#32
  let v7698 : BitVec 32 := Scalar.muli v7693 c8_i32_4868
  v7698
def k0_off4099 (i : grid0.Coords) : Fin 1 → Nat :=
  let c1_i32_4865 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7694 : BitVec 32 := Scalar.subi c1_i32_4865 v9
  ![v7694.toNat]
def k0_off4100 (i : grid0.Coords) : Fin 3 → Nat :=
  let c1_i32_4865 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7694 : BitVec 32 := Scalar.subi c1_i32_4865 v9
  let arg1 : BitVec 32 := BitVec.ofNat 32 (i 1).val
  let c2_i32_4861 : BitVec 32 := 2#32
  let v7690 : BitVec 32 := Scalar.muli arg1 c2_i32_4861
  let c1_i32_4862 : BitVec 32 := 1#32
  let v7691 : BitVec 32 := Scalar.addi v7690 c1_i32_4862
  let c256_i32_4863 : BitVec 32 := 256#32
  let v7692 : BitVec 32 := Scalar.muli v7691 c256_i32_4863
  let c251_i32_4864 : BitVec 32 := 251#32
  let v7693 : BitVec 32 := Scalar.addi v7692 c251_i32_4864
  let c8_i32_4868 : BitVec 32 := 8#32
  let v7698 : BitVec 32 := Scalar.muli v7693 c8_i32_4868
  let v7699 : BitVec 32 := v7698
  let c0_i32_4869 : BitVec 32 := 0#32
  ![v7694.toNat, v7699.toNat, 0]
def k0_off4101 (v7696 : BitVec 32) : Fin 2 → Nat :=
  let v7697 : BitVec 32 := v7696
  let c0_i32_4870 : BitVec 32 := 0#32
  ![v7697.toNat, 0]

def k0_chk1021 (i : grid0.Coords) (v7696 : BitVec 32) : Prop :=
  (∀ (k0_h3 : k0_cond3 i = 1#1), 8 ∣ (k0_mult2041 v7696).toNat) ∧
  (∀ (k0_h3 : k0_cond3 i = 1#1), ∀ a, (k0_off4101 v7696) a + S8x128.size a ≤ S131072x128.size a)
theorem k0_mult2041_dvd : ∀ (i : grid0.Coords) (v7696 : BitVec 32) (k0_hw1021 : k0_chk1021 i v7696), ∀ (k0_h3 : k0_cond3 i = 1#1), 8 ∣ (k0_mult2041 v7696).toNat := fun i v7696 k0_hw1021 k0_h3 => k0_hw1021.1 k0_h3
theorem k0_off4101_inb : ∀ (i : grid0.Coords) (v7696 : BitVec 32) (k0_hw1021 : k0_chk1021 i v7696), ∀ (k0_h3 : k0_cond3 i = 1#1), ∀ a, (k0_off4101 v7696) a + S8x128.size a ≤ S131072x128.size a := fun i v7696 k0_hw1021 k0_h3 => k0_hw1021.2 k0_h3

def k0_off4102 (i : grid0.Coords) : Fin 3 → Nat :=
  let c0_4876 : Index := 0#32
  let c0_4877 : Index := 0#32
  let arg1 : BitVec 32 := BitVec.ofNat 32 (i 1).val
  let c2_i32_4871 : BitVec 32 := 2#32
  let v7705 : BitVec 32 := Scalar.muli arg1 c2_i32_4871
  let c1_i32_4872 : BitVec 32 := 1#32
  let v7706 : BitVec 32 := Scalar.addi v7705 c1_i32_4872
  let c256_i32_4873 : BitVec 32 := 256#32
  let v7707 : BitVec 32 := Scalar.muli v7706 c256_i32_4873
  let c252_i32_4874 : BitVec 32 := 252#32
  let v7708 : BitVec 32 := Scalar.addi v7707 c252_i32_4874
  let v7710 : Index := Scalar.indexCast v7708
  ![0, 0, v7710.toNat]
def k0_mult2043 (v7711 : BitVec 32) : BitVec 32 :=
  v7711

def k0_mult2044 (i : grid0.Coords) : BitVec 32 :=
  let arg1 : BitVec 32 := BitVec.ofNat 32 (i 1).val
  let c2_i32_4871 : BitVec 32 := 2#32
  let v7705 : BitVec 32 := Scalar.muli arg1 c2_i32_4871
  let c1_i32_4872 : BitVec 32 := 1#32
  let v7706 : BitVec 32 := Scalar.addi v7705 c1_i32_4872
  let c256_i32_4873 : BitVec 32 := 256#32
  let v7707 : BitVec 32 := Scalar.muli v7706 c256_i32_4873
  let c252_i32_4874 : BitVec 32 := 252#32
  let v7708 : BitVec 32 := Scalar.addi v7707 c252_i32_4874
  let c8_i32_4878 : BitVec 32 := 8#32
  let v7713 : BitVec 32 := Scalar.muli v7708 c8_i32_4878
  v7713
def k0_off4103 (i : grid0.Coords) : Fin 1 → Nat :=
  let c1_i32_4875 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7709 : BitVec 32 := Scalar.subi c1_i32_4875 v9
  ![v7709.toNat]
def k0_off4104 (i : grid0.Coords) : Fin 3 → Nat :=
  let c1_i32_4875 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7709 : BitVec 32 := Scalar.subi c1_i32_4875 v9
  let arg1 : BitVec 32 := BitVec.ofNat 32 (i 1).val
  let c2_i32_4871 : BitVec 32 := 2#32
  let v7705 : BitVec 32 := Scalar.muli arg1 c2_i32_4871
  let c1_i32_4872 : BitVec 32 := 1#32
  let v7706 : BitVec 32 := Scalar.addi v7705 c1_i32_4872
  let c256_i32_4873 : BitVec 32 := 256#32
  let v7707 : BitVec 32 := Scalar.muli v7706 c256_i32_4873
  let c252_i32_4874 : BitVec 32 := 252#32
  let v7708 : BitVec 32 := Scalar.addi v7707 c252_i32_4874
  let c8_i32_4878 : BitVec 32 := 8#32
  let v7713 : BitVec 32 := Scalar.muli v7708 c8_i32_4878
  let v7714 : BitVec 32 := v7713
  let c0_i32_4879 : BitVec 32 := 0#32
  ![v7709.toNat, v7714.toNat, 0]
def k0_off4105 (v7711 : BitVec 32) : Fin 2 → Nat :=
  let v7712 : BitVec 32 := v7711
  let c0_i32_4880 : BitVec 32 := 0#32
  ![v7712.toNat, 0]

def k0_chk1022 (i : grid0.Coords) (v7711 : BitVec 32) : Prop :=
  (∀ (k0_h3 : k0_cond3 i = 1#1), 8 ∣ (k0_mult2043 v7711).toNat) ∧
  (∀ (k0_h3 : k0_cond3 i = 1#1), ∀ a, (k0_off4105 v7711) a + S8x128.size a ≤ S131072x128.size a)
theorem k0_mult2043_dvd : ∀ (i : grid0.Coords) (v7711 : BitVec 32) (k0_hw1022 : k0_chk1022 i v7711), ∀ (k0_h3 : k0_cond3 i = 1#1), 8 ∣ (k0_mult2043 v7711).toNat := fun i v7711 k0_hw1022 k0_h3 => k0_hw1022.1 k0_h3
theorem k0_off4105_inb : ∀ (i : grid0.Coords) (v7711 : BitVec 32) (k0_hw1022 : k0_chk1022 i v7711), ∀ (k0_h3 : k0_cond3 i = 1#1), ∀ a, (k0_off4105 v7711) a + S8x128.size a ≤ S131072x128.size a := fun i v7711 k0_hw1022 k0_h3 => k0_hw1022.2 k0_h3

def k0_off4106 (i : grid0.Coords) : Fin 3 → Nat :=
  let c0_4886 : Index := 0#32
  let c0_4887 : Index := 0#32
  let arg1 : BitVec 32 := BitVec.ofNat 32 (i 1).val
  let c2_i32_4881 : BitVec 32 := 2#32
  let v7720 : BitVec 32 := Scalar.muli arg1 c2_i32_4881
  let c1_i32_4882 : BitVec 32 := 1#32
  let v7721 : BitVec 32 := Scalar.addi v7720 c1_i32_4882
  let c256_i32_4883 : BitVec 32 := 256#32
  let v7722 : BitVec 32 := Scalar.muli v7721 c256_i32_4883
  let c253_i32_4884 : BitVec 32 := 253#32
  let v7723 : BitVec 32 := Scalar.addi v7722 c253_i32_4884
  let v7725 : Index := Scalar.indexCast v7723
  ![0, 0, v7725.toNat]
def k0_mult2045 (v7726 : BitVec 32) : BitVec 32 :=
  v7726

def k0_mult2046 (i : grid0.Coords) : BitVec 32 :=
  let arg1 : BitVec 32 := BitVec.ofNat 32 (i 1).val
  let c2_i32_4881 : BitVec 32 := 2#32
  let v7720 : BitVec 32 := Scalar.muli arg1 c2_i32_4881
  let c1_i32_4882 : BitVec 32 := 1#32
  let v7721 : BitVec 32 := Scalar.addi v7720 c1_i32_4882
  let c256_i32_4883 : BitVec 32 := 256#32
  let v7722 : BitVec 32 := Scalar.muli v7721 c256_i32_4883
  let c253_i32_4884 : BitVec 32 := 253#32
  let v7723 : BitVec 32 := Scalar.addi v7722 c253_i32_4884
  let c8_i32_4888 : BitVec 32 := 8#32
  let v7728 : BitVec 32 := Scalar.muli v7723 c8_i32_4888
  v7728
def k0_off4107 (i : grid0.Coords) : Fin 1 → Nat :=
  let c1_i32_4885 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7724 : BitVec 32 := Scalar.subi c1_i32_4885 v9
  ![v7724.toNat]
def k0_off4108 (i : grid0.Coords) : Fin 3 → Nat :=
  let c1_i32_4885 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7724 : BitVec 32 := Scalar.subi c1_i32_4885 v9
  let arg1 : BitVec 32 := BitVec.ofNat 32 (i 1).val
  let c2_i32_4881 : BitVec 32 := 2#32
  let v7720 : BitVec 32 := Scalar.muli arg1 c2_i32_4881
  let c1_i32_4882 : BitVec 32 := 1#32
  let v7721 : BitVec 32 := Scalar.addi v7720 c1_i32_4882
  let c256_i32_4883 : BitVec 32 := 256#32
  let v7722 : BitVec 32 := Scalar.muli v7721 c256_i32_4883
  let c253_i32_4884 : BitVec 32 := 253#32
  let v7723 : BitVec 32 := Scalar.addi v7722 c253_i32_4884
  let c8_i32_4888 : BitVec 32 := 8#32
  let v7728 : BitVec 32 := Scalar.muli v7723 c8_i32_4888
  let v7729 : BitVec 32 := v7728
  let c0_i32_4889 : BitVec 32 := 0#32
  ![v7724.toNat, v7729.toNat, 0]
def k0_off4109 (v7726 : BitVec 32) : Fin 2 → Nat :=
  let v7727 : BitVec 32 := v7726
  let c0_i32_4890 : BitVec 32 := 0#32
  ![v7727.toNat, 0]

def k0_chk1023 (i : grid0.Coords) (v7726 : BitVec 32) : Prop :=
  (∀ (k0_h3 : k0_cond3 i = 1#1), 8 ∣ (k0_mult2045 v7726).toNat) ∧
  (∀ (k0_h3 : k0_cond3 i = 1#1), ∀ a, (k0_off4109 v7726) a + S8x128.size a ≤ S131072x128.size a)
theorem k0_mult2045_dvd : ∀ (i : grid0.Coords) (v7726 : BitVec 32) (k0_hw1023 : k0_chk1023 i v7726), ∀ (k0_h3 : k0_cond3 i = 1#1), 8 ∣ (k0_mult2045 v7726).toNat := fun i v7726 k0_hw1023 k0_h3 => k0_hw1023.1 k0_h3
theorem k0_off4109_inb : ∀ (i : grid0.Coords) (v7726 : BitVec 32) (k0_hw1023 : k0_chk1023 i v7726), ∀ (k0_h3 : k0_cond3 i = 1#1), ∀ a, (k0_off4109 v7726) a + S8x128.size a ≤ S131072x128.size a := fun i v7726 k0_hw1023 k0_h3 => k0_hw1023.2 k0_h3

def k0_off4110 (i : grid0.Coords) : Fin 3 → Nat :=
  let c0_4896 : Index := 0#32
  let c0_4897 : Index := 0#32
  let arg1 : BitVec 32 := BitVec.ofNat 32 (i 1).val
  let c2_i32_4891 : BitVec 32 := 2#32
  let v7735 : BitVec 32 := Scalar.muli arg1 c2_i32_4891
  let c1_i32_4892 : BitVec 32 := 1#32
  let v7736 : BitVec 32 := Scalar.addi v7735 c1_i32_4892
  let c256_i32_4893 : BitVec 32 := 256#32
  let v7737 : BitVec 32 := Scalar.muli v7736 c256_i32_4893
  let c254_i32_4894 : BitVec 32 := 254#32
  let v7738 : BitVec 32 := Scalar.addi v7737 c254_i32_4894
  let v7740 : Index := Scalar.indexCast v7738
  ![0, 0, v7740.toNat]
def k0_mult2047 (v7741 : BitVec 32) : BitVec 32 :=
  v7741

def k0_mult2048 (i : grid0.Coords) : BitVec 32 :=
  let arg1 : BitVec 32 := BitVec.ofNat 32 (i 1).val
  let c2_i32_4891 : BitVec 32 := 2#32
  let v7735 : BitVec 32 := Scalar.muli arg1 c2_i32_4891
  let c1_i32_4892 : BitVec 32 := 1#32
  let v7736 : BitVec 32 := Scalar.addi v7735 c1_i32_4892
  let c256_i32_4893 : BitVec 32 := 256#32
  let v7737 : BitVec 32 := Scalar.muli v7736 c256_i32_4893
  let c254_i32_4894 : BitVec 32 := 254#32
  let v7738 : BitVec 32 := Scalar.addi v7737 c254_i32_4894
  let c8_i32_4898 : BitVec 32 := 8#32
  let v7743 : BitVec 32 := Scalar.muli v7738 c8_i32_4898
  v7743
def k0_off4111 (i : grid0.Coords) : Fin 1 → Nat :=
  let c1_i32_4895 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7739 : BitVec 32 := Scalar.subi c1_i32_4895 v9
  ![v7739.toNat]
def k0_off4112 (i : grid0.Coords) : Fin 3 → Nat :=
  let c1_i32_4895 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7739 : BitVec 32 := Scalar.subi c1_i32_4895 v9
  let arg1 : BitVec 32 := BitVec.ofNat 32 (i 1).val
  let c2_i32_4891 : BitVec 32 := 2#32
  let v7735 : BitVec 32 := Scalar.muli arg1 c2_i32_4891
  let c1_i32_4892 : BitVec 32 := 1#32
  let v7736 : BitVec 32 := Scalar.addi v7735 c1_i32_4892
  let c256_i32_4893 : BitVec 32 := 256#32
  let v7737 : BitVec 32 := Scalar.muli v7736 c256_i32_4893
  let c254_i32_4894 : BitVec 32 := 254#32
  let v7738 : BitVec 32 := Scalar.addi v7737 c254_i32_4894
  let c8_i32_4898 : BitVec 32 := 8#32
  let v7743 : BitVec 32 := Scalar.muli v7738 c8_i32_4898
  let v7744 : BitVec 32 := v7743
  let c0_i32_4899 : BitVec 32 := 0#32
  ![v7739.toNat, v7744.toNat, 0]
def k0_off4113 (v7741 : BitVec 32) : Fin 2 → Nat :=
  let v7742 : BitVec 32 := v7741
  let c0_i32_4900 : BitVec 32 := 0#32
  ![v7742.toNat, 0]

def k0_chk1024 (i : grid0.Coords) (v7741 : BitVec 32) : Prop :=
  (∀ (k0_h3 : k0_cond3 i = 1#1), 8 ∣ (k0_mult2047 v7741).toNat) ∧
  (∀ (k0_h3 : k0_cond3 i = 1#1), ∀ a, (k0_off4113 v7741) a + S8x128.size a ≤ S131072x128.size a)
theorem k0_mult2047_dvd : ∀ (i : grid0.Coords) (v7741 : BitVec 32) (k0_hw1024 : k0_chk1024 i v7741), ∀ (k0_h3 : k0_cond3 i = 1#1), 8 ∣ (k0_mult2047 v7741).toNat := fun i v7741 k0_hw1024 k0_h3 => k0_hw1024.1 k0_h3
theorem k0_off4113_inb : ∀ (i : grid0.Coords) (v7741 : BitVec 32) (k0_hw1024 : k0_chk1024 i v7741), ∀ (k0_h3 : k0_cond3 i = 1#1), ∀ a, (k0_off4113 v7741) a + S8x128.size a ≤ S131072x128.size a := fun i v7741 k0_hw1024 k0_h3 => k0_hw1024.2 k0_h3

def k0_off4114 (i : grid0.Coords) : Fin 3 → Nat :=
  let c0_4906 : Index := 0#32
  let c0_4907 : Index := 0#32
  let arg1 : BitVec 32 := BitVec.ofNat 32 (i 1).val
  let c2_i32_4901 : BitVec 32 := 2#32
  let v7750 : BitVec 32 := Scalar.muli arg1 c2_i32_4901
  let c1_i32_4902 : BitVec 32 := 1#32
  let v7751 : BitVec 32 := Scalar.addi v7750 c1_i32_4902
  let c256_i32_4903 : BitVec 32 := 256#32
  let v7752 : BitVec 32 := Scalar.muli v7751 c256_i32_4903
  let c255_i32_4904 : BitVec 32 := 255#32
  let v7753 : BitVec 32 := Scalar.addi v7752 c255_i32_4904
  let v7755 : Index := Scalar.indexCast v7753
  ![0, 0, v7755.toNat]
def k0_mult2049 (v7756 : BitVec 32) : BitVec 32 :=
  v7756

def k0_mult2050 (i : grid0.Coords) : BitVec 32 :=
  let arg1 : BitVec 32 := BitVec.ofNat 32 (i 1).val
  let c2_i32_4901 : BitVec 32 := 2#32
  let v7750 : BitVec 32 := Scalar.muli arg1 c2_i32_4901
  let c1_i32_4902 : BitVec 32 := 1#32
  let v7751 : BitVec 32 := Scalar.addi v7750 c1_i32_4902
  let c256_i32_4903 : BitVec 32 := 256#32
  let v7752 : BitVec 32 := Scalar.muli v7751 c256_i32_4903
  let c255_i32_4904 : BitVec 32 := 255#32
  let v7753 : BitVec 32 := Scalar.addi v7752 c255_i32_4904
  let c8_i32_4908 : BitVec 32 := 8#32
  let v7758 : BitVec 32 := Scalar.muli v7753 c8_i32_4908
  v7758
def k0_off4115 (i : grid0.Coords) : Fin 1 → Nat :=
  let c1_i32_4905 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7754 : BitVec 32 := Scalar.subi c1_i32_4905 v9
  ![v7754.toNat]
def k0_off4116 (i : grid0.Coords) : Fin 3 → Nat :=
  let c1_i32_4905 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v7754 : BitVec 32 := Scalar.subi c1_i32_4905 v9
  let arg1 : BitVec 32 := BitVec.ofNat 32 (i 1).val
  let c2_i32_4901 : BitVec 32 := 2#32
  let v7750 : BitVec 32 := Scalar.muli arg1 c2_i32_4901
  let c1_i32_4902 : BitVec 32 := 1#32
  let v7751 : BitVec 32 := Scalar.addi v7750 c1_i32_4902
  let c256_i32_4903 : BitVec 32 := 256#32
  let v7752 : BitVec 32 := Scalar.muli v7751 c256_i32_4903
  let c255_i32_4904 : BitVec 32 := 255#32
  let v7753 : BitVec 32 := Scalar.addi v7752 c255_i32_4904
  let c8_i32_4908 : BitVec 32 := 8#32
  let v7758 : BitVec 32 := Scalar.muli v7753 c8_i32_4908
  let v7759 : BitVec 32 := v7758
  let c0_i32_4909 : BitVec 32 := 0#32
  ![v7754.toNat, v7759.toNat, 0]
def k0_off4117 (v7756 : BitVec 32) : Fin 2 → Nat :=
  let v7757 : BitVec 32 := v7756
  let c0_i32_4910 : BitVec 32 := 0#32
  ![v7757.toNat, 0]

def k0_chk1025 (i : grid0.Coords) (v7756 : BitVec 32) : Prop :=
  (∀ (k0_h3 : k0_cond3 i = 1#1), 8 ∣ (k0_mult2049 v7756).toNat) ∧
  (∀ (k0_h3 : k0_cond3 i = 1#1), ∀ a, (k0_off4117 v7756) a + S8x128.size a ≤ S131072x128.size a)
theorem k0_mult2049_dvd : ∀ (i : grid0.Coords) (v7756 : BitVec 32) (k0_hw1025 : k0_chk1025 i v7756), ∀ (k0_h3 : k0_cond3 i = 1#1), 8 ∣ (k0_mult2049 v7756).toNat := fun i v7756 k0_hw1025 k0_h3 => k0_hw1025.1 k0_h3
theorem k0_off4117_inb : ∀ (i : grid0.Coords) (v7756 : BitVec 32) (k0_hw1025 : k0_chk1025 i v7756), ∀ (k0_h3 : k0_cond3 i = 1#1), ∀ a, (k0_off4117 v7756) a + S8x128.size a ≤ S131072x128.size a := fun i v7756 k0_hw1025 k0_h3 => k0_hw1025.2 k0_h3

def k0_cond4 (i : grid0.Coords) : BitVec 1 :=
  let arg0 : BitVec 32 := BitVec.ofNat 32 (i 0).val
  let c15_i32 : BitVec 32 := 15#32
  let v21 : BitVec 1 := Scalar.cmpi .eq arg0 c15_i32
  let arg1 : BitVec 32 := BitVec.ofNat 32 (i 1).val
  let c3_i32 : BitVec 32 := 3#32
  let v22 : BitVec 1 := Scalar.cmpi .eq arg1 c3_i32
  let v23 : BitVec 1 := Scalar.andi v21 v22
  let v24 : BitVec 32 := Scalar.extui v23
  let c0_i32_10 : BitVec 32 := 0#32
  let v25 : BitVec 1 := Scalar.cmpi .ne v24 c0_i32_10
  v25

def k0_off4118 (i : grid0.Coords) : Fin 1 → Nat :=
  let c1_i32_11 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : BitVec 32 := Scalar.subi c1_i32_11 v9
  ![v26.toNat]
def k0_off4119 (i : grid0.Coords) : Fin 3 → Nat :=
  let c1_i32_11 : BitVec 32 := 1#32
  let arg0 : BitVec 32 := BitVec.ofNat 32 (i 0).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let c0_i32_0 : BitVec 32 := 0#32
  let v3 : BitVec 1 := Scalar.cmpi .ne v2 c0_i32_0
  let v7 : BitVec 1 := Scalar.andi v6 v3
  let v8 : BitVec 32 := Scalar.addi v2 v1
  let v9 : BitVec 32 := Scalar.select v7 v8 v2
  let v26 : BitVec 32 := Scalar.subi c1_i32_11 v9
  let c0_i32_12 : BitVec 32 := 0#32
  let c0_i32_13 : BitVec 32 := 0#32
  ![v26.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c15_i32 : BitVec 32 := 15#32
  let v1 : BitVec 32 := Scalar.minsi v0 c15_i32
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .smem S1x1x2048 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .smem S1x1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ReferenceIdeal.lean ====
abbrev S16x1x2048 : Shape := ⟨3, ![16, 1, 2048]⟩
abbrev S131072x128 : Shape := ⟨2, ![131072, 128]⟩
abbrev S16x1024x2048 : Shape := ⟨3, ![16, 1024, 2048]⟩
abbrev S16x2048x1024 : Shape := ⟨3, ![16, 2048, 1024]⟩
abbrev S16384x1024 : Shape := ⟨2, ![16384, 1024]⟩
abbrev S16x2048 : Shape := ⟨2, ![16, 2048]⟩
abbrev S_ : Shape := ⟨0, ![]⟩
abbrev S16x2048x1 : Shape := ⟨3, ![16, 2048, 1]⟩
abbrev S16x2048x2048 : Shape := ⟨3, ![16, 2048, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16x1x2048, .i32⟩
  | .hbm, ⟨1, _⟩ => ⟨S131072x128, .f32⟩
  | .hbm, ⟨2, _⟩ => ⟨S16x1024x2048, .f32⟩
  | .hbm, ⟨3, _⟩ => ⟨S16x1024x2048, .f32⟩
  | .hbm, ⟨4, _⟩ => ⟨S16x2048x1024, .f32⟩
  | .hbm, ⟨5, _⟩ => ⟨S16384x1024, .f32⟩
  | .hbm, ⟨6, _⟩ => ⟨S16x2048, .i32⟩
  | .hbm, ⟨7, _⟩ => ⟨S_, .i32⟩
  | .hbm, ⟨8, _⟩ => ⟨S16x2048, .i32⟩
  | .hbm, ⟨9, _⟩ => ⟨S16x2048, .i32⟩
  | .hbm, ⟨10, _⟩ => ⟨S_, .i32⟩
  | .hbm, ⟨11, _⟩ => ⟨S16x2048, .i32⟩
  | .hbm, ⟨12, _⟩ => ⟨S16x2048, .i1⟩
  | .hbm, ⟨13, _⟩ => ⟨S_, .i32⟩
  | .hbm, ⟨14, _⟩ => ⟨S16x2048, .i32⟩
  | .hbm, ⟨15, _⟩ => ⟨S16x2048, .i32⟩
  | .hbm, ⟨16, _⟩ => ⟨S16x2048, .i32⟩
  | .hbm, ⟨17, _⟩ => ⟨S16x2048x1, .i32⟩
  | .hbm, ⟨18, _⟩ => ⟨S16x2048x1024, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x1024, .f32⟩
  | _, _ => ⟨S16x1x2048, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_c_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x2304 : Shape := ⟨2, ![1024, 2304]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S1x4096x16x8 : Shape := ⟨4, ![1, 4096, 16, 8]⟩
abbrev S4096x128 : Shape := ⟨2, ![4096, 128]⟩
abbrev S128 : Shape := ⟨1, ![128]⟩
abbrev S1x1024 : Shape := ⟨2, ![1, 1024]⟩
abbrev S4x16384x128 : Shape := ⟨3, ![4, 16384, 128]⟩
abbrev S2x16384x128 : Shape := ⟨3, ![2, 16384, 128]⟩
abbrev S1024x1024 : Shape := ⟨2, ![1024, 1024]⟩
abbrev S1024x128 : Shape := ⟨2, ![1024, 128]⟩
abbrev S4x1024x128 : Shape := ⟨3, ![4, 1024, 128]⟩
abbrev S2x1024x128 : Shape := ⟨3, ![2, 1024, 128]⟩
abbrev S1024x1 : Shape := ⟨2, ![1024, 1]⟩
abbrev S1024x256 : Shape := ⟨2, ![1024, 256]⟩
abbrev S1x1024x128 : Shape := ⟨3, ![1, 1024, 128]⟩

abbrev nBuf : Space → Nat
  | .hbm => 90
  | .vmem => 23
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2304, .f32⟩
  | .hbm, ⟨3, _⟩ => ⟨S8, .f32⟩
  | .hbm, ⟨4, _⟩ => ⟨S_, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .f32⟩
  | .hbm, ⟨18, _⟩ => ⟨S4096x1, .f32⟩
  | .hbm, ⟨19, _⟩ => ⟨S1x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S1x4096x1x8, .f32⟩
  | .hbm, ⟨25, _⟩ => ⟨S1x4096x16x8, .f32⟩
  | .hbm, ⟨26, _⟩ => ⟨S4096x128, .f32⟩
  | .hbm, ⟨27, _⟩ => ⟨S4096x8, .f32⟩
  | .hbm, ⟨28, _⟩ => ⟨S1x4096x1x8, .f32⟩
  | .hbm, ⟨29, _⟩ => ⟨S1x4096x16x8, .f32⟩
  | .hbm, ⟨30, _⟩ => ⟨S4096x128, .f32⟩
  | .hbm, ⟨31, _⟩ => ⟨S128, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S128, .i32⟩
  | .hbm, ⟨39, _⟩ => ⟨S128, .i32⟩
  | .hbm, ⟨40, _⟩ => ⟨S_, .i32⟩
  | .hbm, ⟨41, _⟩ => ⟨S128, .i32⟩
  | .hbm, ⟨42, _⟩ => ⟨S128, .i1⟩
  | .hbm, ⟨43, _⟩ => ⟨S_, .i32⟩
  | .hbm, ⟨44, _⟩ => ⟨S128, .i32⟩
  | .hbm, ⟨45, _⟩ => ⟨S128, .i1⟩
  | .hbm, ⟨46, _⟩ => ⟨S_, .i32⟩
  | .hbm, ⟨47, _⟩ => ⟨S_, .i1⟩
  | .hbm, ⟨48, _⟩ => ⟨S128, .i1⟩
  | .hbm, ⟨49, _⟩ => ⟨S128, .i1⟩
  | .hbm, ⟨50, _⟩ => ⟨S128, .i1⟩
  | .hbm, ⟨51, _⟩ => ⟨S128, .i32⟩
  | .hbm, ⟨52, _⟩ => ⟨S128, .i32⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S_, .f32⟩
  | .hbm, ⟨58, _⟩ => ⟨S_, .f32⟩
  | .hbm, ⟨59, _⟩ => ⟨S4096x128, .i1⟩
  | .hbm, ⟨60, _⟩ => ⟨S4096x128, .f32⟩
  | .hbm, ⟨61, _⟩ => ⟨S4096x128, .f32⟩
  | .hbm, ⟨62, _⟩ => ⟨S_, .i32⟩
  | .hbm, ⟨63, _⟩ => ⟨S128, .i32⟩
  | .hbm, ⟨64, _⟩ => ⟨S128, .i1⟩
  | .hbm, ⟨65, _⟩ => ⟨S4096x128, .f32⟩
  | .hbm, ⟨66, _⟩ => ⟨S_, .f32⟩
  | .hbm, ⟨67, _⟩ => ⟨S_, .f32⟩
  | .hbm, ⟨68, _⟩ => ⟨S4096x128, .i1⟩
  | .hbm, ⟨69, _⟩ => ⟨S4096x128, .f32⟩
  | .hbm, ⟨70, _⟩ => ⟨S4096x128, .f32⟩
  | .hbm, ⟨71, _⟩ => ⟨S_, .i32⟩
  | .hbm, ⟨72, _⟩ => ⟨S128, .i32⟩
  | .hbm, ⟨73, _⟩ => ⟨S128, .i1⟩
  | .hbm, ⟨74, _⟩ => ⟨S_, .i32⟩
  | .hbm, ⟨75, _⟩ => ⟨S128, .i32⟩
  | .hbm, ⟨76, _⟩ => ⟨S128, .i1⟩
  | .hbm, ⟨77, _⟩ => ⟨S128, .i1⟩
  | .hbm, ⟨78, _⟩ => ⟨S_, .f32⟩
  | .hbm, ⟨79, _⟩ => ⟨S_, .f32⟩
  | .hbm, ⟨80, _⟩ => ⟨S4096x128, .i1⟩
  | .hbm, ⟨81, _⟩ => ⟨S4096x128, .f32⟩
  | .hbm, ⟨82, _⟩ => ⟨S4096x128, .f32⟩
  | .hbm, ⟨83, _⟩ => ⟨S1x1024, .f32⟩
  | .hbm, ⟨84, _⟩ => ⟨S4x16384x128, .bf16⟩
  | .hbm, ⟨85, _⟩ => ⟨S2x16384x128, .bf16⟩
  | .hbm, ⟨86, _⟩ => ⟨S2x16384x128, .bf16⟩
  | .hbm, ⟨87, _⟩ => ⟨S4x16384x128, .f32⟩
  | .hbm, ⟨88, _⟩ => ⟨S4x16384x128, .f32⟩
  | .hbm, ⟨89, _⟩ => ⟨S4x16384x128, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x2304, .f32⟩
  | .local _ .vmem, ⟨4, _⟩ => ⟨S1024x128, .f32⟩
  | .local _ .vmem, ⟨5, _⟩ => ⟨S1024x128, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | .local _ .vmem, ⟨9, _⟩ => ⟨S1024x128, .f32⟩
  | .local _ .vmem, ⟨10, _⟩ => ⟨S4x1024x128, .bf16⟩
  | .local _ .vmem, ⟨11, _⟩ => ⟨S4x1024x128, .bf16⟩
  | .local _ .vmem, ⟨12, _⟩ => ⟨S2x1024x128, .bf16⟩
  | .local _ .vmem, ⟨13, _⟩ => ⟨S2x1024x128, .bf16⟩
  | .local _ .vmem, ⟨14, _⟩ => ⟨S2x1024x128, .bf16⟩
  | .local _ .vmem, ⟨15, _⟩ => ⟨S2x1024x128, .bf16⟩
  | .local _ .vmem, ⟨16, _⟩ => ⟨S4x1024x128, .f32⟩
  | .local _ .vmem, ⟨17, _⟩ => ⟨S4x1024x128, .f32⟩
  | .local _ .vmem, ⟨18, _⟩ => ⟨S4x1024x128, .f32⟩
  | .local _ .vmem, ⟨19, _⟩ => ⟨S4x1024x128, .f32⟩
  | .local _ .vmem, ⟨20, _⟩ => ⟨S4x1024x128, .f32⟩
  | .local _ .vmem, ⟨21, _⟩ => ⟨S4x1024x128, .f32⟩
  | .local _ .vmem, ⟨22, _⟩ => ⟨S1024x2304, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_c : Ref sig .tc := ⟨.hbm, 32, rfl⟩
abbrev main_call0_v0 : Ref sig .tc := ⟨.hbm, 33, rfl⟩
abbrev main_call0_c : Ref sig .tc := ⟨.hbm, 34, rfl⟩
abbrev main_call0_v1 : Ref sig .tc := ⟨.hbm, 35, rfl⟩
abbrev main_call0_c_0 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_call0_c_1 : Ref sig .tc := ⟨.hbm, 40, rfl⟩
abbrev main_call0_v5 : Ref sig .tc := ⟨.hbm, 41, rfl⟩
abbrev main_call0_v6 : Ref sig .tc := ⟨.hbm, 42, rfl⟩
abbrev main_call0_c_2 : Ref sig .tc := ⟨.hbm, 43, rfl⟩
abbrev main_call0_v7 : Ref sig .tc := ⟨.hbm, 44, rfl⟩
abbrev main_call0_v8 : Ref sig .tc := ⟨.hbm, 45, rfl⟩
abbrev main_call0_c_3 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_v12 : Ref sig .tc := ⟨.hbm, 50, rfl⟩
abbrev main_call0_v13 : Ref sig .tc := ⟨.hbm, 51, rfl⟩
abbrev main_call0_v14 : Ref sig .tc := ⟨.hbm, 52, rfl⟩
abbrev main_v25 : Ref sig .tc := ⟨.hbm, 53, rfl⟩
abbrev main_c_3 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v28 : Ref sig .tc := ⟨.hbm, 61, rfl⟩
abbrev main_c_5 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_cst_6 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v32 : Ref sig .tc := ⟨.hbm, 70, rfl⟩
abbrev main_c_7 : Ref sig .tc := ⟨.hbm, 71, rfl⟩
abbrev main_v33 : Ref sig .tc := ⟨.hbm, 72, rfl⟩
abbrev main_v34 : Ref sig .tc := ⟨.hbm, 73, rfl⟩
abbrev main_c_8 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_9 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_v38 : Ref sig .tc := ⟨.hbm, 82, rfl⟩
abbrev main_v39 : Ref sig .tc := ⟨.hbm, 83, rfl⟩
abbrev main_v40_0 : Ref sig .tc := ⟨.hbm, 84, rfl⟩
abbrev main_v40_1 : Ref sig .tc := ⟨.hbm, 85, rfl⟩
abbrev main_v40_2 : Ref sig .tc := ⟨.hbm, 86, rfl⟩
abbrev main_v40_3 : Ref sig .tc := ⟨.hbm, 87, rfl⟩
abbrev main_v40_4 : Ref sig .tc := ⟨.hbm, 88, rfl⟩
abbrev main_v40_5 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2304 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x1024x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x1024x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x1024x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x1024x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x1024x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Kernel2Ideal.lean ====
variable {F : FTy → Type} [FloatOps F] [Named F]
def κ : String → Option EReal := fun
  | "q_scale" => some (((8 * (Real.log 2))⁻¹ : ℝ) : EReal)
  | _ => none
-- ==== Reference2Ideal.lean ====
abbrev S16384x1024 : Shape := ⟨2, ![16384, 1024]⟩
abbrev S1024 : Shape := ⟨1, ![1024]⟩
abbrev S1024x2304 : Shape := ⟨2, ![1024, 2304]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S4x4096x1024 : Shape := ⟨3, ![4, 4096, 1024]⟩
abbrev S4x4096x2304 : Shape := ⟨3, ![4, 4096, 2304]⟩
abbrev S4x4096x512 : Shape := ⟨3, ![4, 4096, 512]⟩
abbrev S4x4096x128 : Shape := ⟨3, ![4, 4096, 128]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S4x4096x8x64 : Shape := ⟨4, ![4, 4096, 8, 64]⟩
abbrev S1x4096x1x8 : Shape := ⟨4, ![1, 4096, 1, 8]⟩
abbrev S4x4096x8x8 : Shape := ⟨4, ![4, 4096, 8, 8]⟩
abbrev S4x4096x8x48 : Shape := ⟨4, ![4, 4096, 8, 48]⟩
abbrev S16384x4x128 : Shape := ⟨3, ![16384, 4, 128]⟩
abbrev S4x16384x128 : Shape := ⟨3, ![4, 16384, 128]⟩
abbrev S4x4096x2x64 : Shape := ⟨4, ![4, 4096, 2, 64]⟩
abbrev S4x4096x2x8 : Shape := ⟨4, ![4, 4096, 2, 8]⟩
abbrev S4x4096x2x48 : Shape := ⟨4, ![4, 4096, 2, 48]⟩
abbrev S4x4096x2x128 : Shape := ⟨4, ![4, 4096, 2, 128]⟩
abbrev S16384x2x128 : Shape := ⟨3, ![16384, 2, 128]⟩
abbrev S2x16384x128 : Shape := ⟨3, ![2, 16384, 128]⟩

abbrev nBuf : Space → Nat
  | .hbm => 150
  | .vmem => 0
  | .smem => 0
  | _ => 0

abbrev hbmTy0_0 (i : Nat) : BufTy := match i % 128 with
  | 0 => ⟨S16384x1024, .f32⟩
  | 1 => ⟨S1024, .f32⟩
  | 2 => ⟨S1024x2304, .f32⟩
  | 3 => ⟨S16384x1024, .f32⟩
  | 4 => ⟨S_, .f32⟩
  | 5 => ⟨S16384, .f32⟩
  | 6 => ⟨S16384x1, .f32⟩
  | 7 => ⟨S_, .f32⟩
  | 8 => ⟨S16384x1, .f32⟩
  | 9 => ⟨S16384x1, .f32⟩
  | 10 => ⟨S_, .f32⟩
  | 11 => ⟨S16384x1, .f32⟩
  | 12 => ⟨S16384x1, .f32⟩
  | 13 => ⟨S16384x1, .f32⟩
  | 14 => ⟨S16384x1024, .f32⟩
  | 15 => ⟨S16384x1024, .f32⟩
  | 16 => ⟨S1x1024, .f32⟩
  | 17 => ⟨S16384x1024, .f32⟩
  | 18 => ⟨S16384x1024, .f32⟩
  | 19 => ⟨S4x4096x1024, .f32⟩
  | 20 => ⟨S4x4096x2304, .f32⟩
  | 21 => ⟨S4x4096x512, .f32⟩
  | 22 => ⟨S4x4096x128, .f32⟩
  | 23 => ⟨S4x4096x128, .f32⟩
  | 24 => ⟨S4x4096x512, .f32⟩
  | 25 => ⟨S4x4096x512, .f32⟩
  | 26 => ⟨S4x4096x512, .f32⟩
  | 27 => ⟨S8, .f32⟩
  | 28 => ⟨S_, .f32⟩
  | 29 => ⟨S8, .f32⟩
  | 30 => ⟨S8, .f32⟩
  | 31 => ⟨S_, .f32⟩
  | 32 => ⟨S8, .f32⟩
  | 33 => ⟨S8, .f32⟩
  | 34 => ⟨S8, .f32⟩
  | 35 => ⟨S_, .f32⟩
  | 36 => ⟨S8, .f32⟩
  | 37 => ⟨S8, .f32⟩
  | 38 => ⟨S_, .f32⟩
  | 39 => ⟨S8, .f32⟩
  | 40 => ⟨S8, .f32⟩
  | 41 => ⟨S4096, .f32⟩
  | 42 => ⟨S4096x1, .f32⟩
  | 43 => ⟨S1x8, .f32⟩
  | 44 => ⟨S4096x8, .f32⟩
  | 45 => ⟨S4096x8, .f32⟩
  | 46 => ⟨S4096x8, .f32⟩
  | 47 => ⟨S4096x8, .f32⟩
  | 48 => ⟨S4096x8, .f32⟩
  | 49 => ⟨S4x4096x8x64, .f32⟩
  | 50 => ⟨S1x4096x1x8, .f32⟩
  | 51 => ⟨S1x4096x1x8, .f32⟩
  | 52 => ⟨S4x4096x8x8, .f32⟩
  | 53 => ⟨S4x4096x8x8, .f32⟩
  | 54 => ⟨S4x4096x8x48, .f32⟩
  | 55 => ⟨S4x4096x8x8, .f32⟩
  | 56 => ⟨S4x4096x8x8, .f32⟩
  | 57 => ⟨S4x4096x8x8, .f32⟩
  | 58 => ⟨S4x4096x8x8, .f32⟩
  | 59 => ⟨S4x4096x8x8, .f32⟩
  | 60 => ⟨S4x4096x8x8, .f32⟩
  | 61 => ⟨S4x4096x8x8, .f32⟩
  | 62 => ⟨S4x4096x8x8, .f32⟩
  | 63 => ⟨S4x4096x8x8, .f32⟩
  | 64 => ⟨S4x4096x8x8, .f32⟩
  | 65 => ⟨S4x4096x8x64, .f32⟩
  | 66 => ⟨S_, .f32⟩
  | 67 => ⟨S4x4096x8x64, .f32⟩
  | 68 => ⟨S4x4096x8x64, .f32⟩
  | 69 => ⟨S_, .f32⟩
  | 70 => ⟨S_, .f32⟩
  | 71 => ⟨S4x4096x8x64, .f32⟩
  | 72 => ⟨S4x4096x8x64, .f32⟩
  | 73 => ⟨S16384x4x128, .f32⟩
  | 74 => ⟨S4x16384x128, .f32⟩
  | 75 => ⟨S4x16384x128, .bf16⟩
  | 76 => ⟨S4x4096x2x64, .f32⟩
  | 77 => ⟨S1x4096x1x8, .f32⟩
  | 78 => ⟨S1x4096x1x8, .f32⟩
  | 79 => ⟨S4x4096x2x8, .f32⟩
  | 80 => ⟨S4x4096x2x8, .f32⟩
  | 81 => ⟨S4x4096x2x48, .f32⟩
  | 82 => ⟨S4x4096x2x8, .f32⟩
  | 83 => ⟨S4x4096x2x8, .f32⟩
  | 84 => ⟨S4x4096x2x8, .f32⟩
  | 85 => ⟨S4x4096x2x8, .f32⟩
  | 86 => ⟨S4x4096x2x8, .f32⟩
  | 87 => ⟨S4x4096x2x8, .f32⟩
  | 88 => ⟨S4x4096x2x8, .f32⟩
  | 89 => ⟨S4x4096x2x8, .f32⟩
  | 90 => ⟨S4x4096x2x8, .f32⟩
  | 91 => ⟨S4x4096x2x8, .f32⟩
  | 92 => ⟨S4x4096x2x64, .f32⟩
  | 93 => ⟨S4x4096x2x128, .f32⟩
  | 94 => ⟨S16384x2x128, .f32⟩
  | 95 => ⟨S2x16384x128, .f32⟩
  | 96 => ⟨S2x16384x128, .bf16⟩
  | 97 => ⟨S4x4096x2x64, .f32⟩
  | 98 => ⟨S4x4096x2x128, .f32⟩
  | 99 => ⟨S16384x2x128, .f32⟩
  | 100 => ⟨S2x16384x128, .f32⟩
  | 101 => ⟨S2x16384x128, .bf16⟩
  | 102 => ⟨S4x4096x8x64, .f32⟩
  | 103 => ⟨S1x4096x1x8, .f32⟩
  | 104 => ⟨S1x4096x1x8, .f32⟩
  | 105 => ⟨S4x4096x8x8, .f32⟩
  | 106 => ⟨S4x4096x8x8, .f32⟩
  | 107 => ⟨S4x4096x8x48, .f32⟩
  | 108 => ⟨S4x4096x8x8, .f32⟩
  | 109 => ⟨S4x4096x8x8, .f32⟩
  | 110 => ⟨S4x4096x8x8, .f32⟩
  | 111 => ⟨S4x4096x8x8, .f32⟩
  | 112 => ⟨S4x4096x8x8, .f32⟩
  | 113 => ⟨S4x4096x8x8, .f32⟩
  | 114 => ⟨S4x4096x8x8, .f32⟩
  | 115 => ⟨S4x4096x8x8, .f32⟩
  | 116 => ⟨S4x4096x8x8, .f32⟩
  | 117 => ⟨S4x4096x8x8, .f32⟩
  | 118 => ⟨S4x4096x8x64, .f32⟩
  | 119 => ⟨S_, .f32⟩
  | 120 => ⟨S4x4096x8x64, .f32⟩
  | 121 => ⟨S4x4096x8x64, .f32⟩
  | 122 => ⟨S_, .f32⟩
  | 123 => ⟨S_, .f32⟩
  | 124 => ⟨S4x4096x8x64, .f32⟩
  | 125 => ⟨S4x4096x8x64, .f32⟩
  | 126 => ⟨S16384x4x128, .f32⟩
  | 127 => ⟨S4x16384x128, .f32⟩
  | _ => ⟨S16384x1024, .f32⟩

abbrev hbmTy0_1 (i : Nat) : BufTy := match i % 128 with
  | 0 => ⟨S4x4096x8x64, .f32⟩
  | 1 => ⟨S1x4096x1x8, .f32⟩
  | 2 => ⟨S1x4096x1x8, .f32⟩
  | 3 => ⟨S4x4096x8x8, .f32⟩
  | 4 => ⟨S4x4096x8x8, .f32⟩
  | 5 => ⟨S4x4096x8x48, .f32⟩
  | 6 => ⟨S4x4096x8x8, .f32⟩
  | 7 => ⟨S4x4096x8x8, .f32⟩
  | 8 => ⟨S4x4096x8x8, .f32⟩
  | 9 => ⟨S4x4096x8x8, .f32⟩
  | 10 => ⟨S4x4096x8x8, .f32⟩
  | 11 => ⟨S4x4096x8x8, .f32⟩
  | 12 => ⟨S4x4096x8x8, .f32⟩
  | 13 => ⟨S4x4096x8x8, .f32⟩
  | 14 => ⟨S4x4096x8x8, .f32⟩
  | 15 => ⟨S4x4096x8x8, .f32⟩
  | 16 => ⟨S4x4096x8x64, .f32⟩
  | 17 => ⟨S16384x4x128, .f32⟩
  | 18 => ⟨S4x16384x128, .f32⟩
  | 19 => ⟨S4x4096x8x64, .f32⟩
  | 20 => ⟨S16384x4x128, .f32⟩
  | 21 => ⟨S4x16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_v22 : Ref sig .tc := ⟨.hbm, 29, rfl⟩
abbrev main_v23 : Ref sig .tc := ⟨.hbm, 30, rfl⟩
abbrev main_cst_3 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_cst_5 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_cst_6 : Ref sig .tc := ⟨.hbm, 66, rfl⟩
abbrev main_v56 : Ref sig .tc := ⟨.hbm, 67, rfl⟩
abbrev main_v57 : Ref sig .tc := ⟨.hbm, 68, rfl⟩
abbrev main_cst_7 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩
abbrev main_v83 : Ref sig .tc := ⟨.hbm, 95, rfl⟩
abbrev main_v84 : Ref sig .tc := ⟨.hbm, 96, rfl⟩
abbrev main_v85 : Ref sig .tc := ⟨.hbm, 97, rfl⟩
abbrev main_v86 : Ref sig .tc := ⟨.hbm, 98, rfl⟩
abbrev main_v87 : Ref sig .tc := ⟨.hbm, 99, rfl⟩
abbrev main_v88 : Ref sig .tc := ⟨.hbm, 100, rfl⟩
abbrev main_v89 : Ref sig .tc := ⟨.hbm, 101, rfl⟩
abbrev main_v90 : Ref sig .tc := ⟨.hbm, 102, rfl⟩
abbrev main_v91 : Ref sig .tc := ⟨.hbm, 103, rfl⟩
abbrev main_v92 : Ref sig .tc := ⟨.hbm, 104, rfl⟩
abbrev main_v93 : Ref sig .tc := ⟨.hbm, 105, rfl⟩
abbrev main_v94 : Ref sig .tc := ⟨.hbm, 106, rfl⟩
abbrev main_v95 : Ref sig .tc := ⟨.hbm, 107, rfl⟩
abbrev main_v96 : Ref sig .tc := ⟨.hbm, 108, rfl⟩
abbrev main_v97 : Ref sig .tc := ⟨.hbm, 109, rfl⟩
abbrev main_v98 : Ref sig .tc := ⟨.hbm, 110, rfl⟩
abbrev main_v99 : Ref sig .tc := ⟨.hbm, 111, rfl⟩
abbrev main_v100 : Ref sig .tc := ⟨.hbm, 112, rfl⟩
abbrev main_v101 : Ref sig .tc := ⟨.hbm, 113, rfl⟩
abbrev main_v102 : Ref sig .tc := ⟨.hbm, 114, rfl⟩
abbrev main_v103 : Ref sig .tc := ⟨.hbm, 115, rfl⟩
abbrev main_v104 : Ref sig .tc := ⟨.hbm, 116, rfl⟩
abbrev main_v105 : Ref sig .tc := ⟨.hbm, 117, rfl⟩
abbrev main_v106 : Ref sig .tc := ⟨.hbm, 118, rfl⟩
abbrev main_cst_8 : Ref sig .tc := ⟨.hbm, 119, rfl⟩
abbrev main_v107 : Ref sig .tc := ⟨.hbm, 120, rfl⟩
abbrev main_v108 : Ref sig .tc := ⟨.hbm, 121, rfl⟩
abbrev main_cst_9 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩

abbrev nD : Nat := 1
abbrev τ : Topo := Topo.v7x

variable {F : FTy → Type} [FloatOps F]
-- ==== Kernel3.lean ====
abbrev S16384x1024 : Shape := ⟨2, ![16384, 1024]⟩
abbrev S4x16384x128 : Shape := ⟨3, ![4, 16384, 128]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S32x1024 : Shape := ⟨2, ![32, 1024]⟩
abbrev S1x512 : Shape := ⟨2, ![1, 512]⟩
abbrev S1x1024 : Shape := ⟨2, ![1, 1024]⟩
abbrev S131072x128 : Shape := ⟨2, ![131072, 128]⟩
abbrev S4x16x4096 : Shape := ⟨3, ![4, 16, 4096]⟩
abbrev S4x1024x128 : Shape := ⟨3, ![4, 1024, 128]⟩
abbrev S8192x128 : Shape := ⟨2, ![8192, 128]⟩
abbrev S1x16x1024 : Shape := ⟨3, ![1, 16, 1024]⟩
abbrev S1x1024x128 : Shape := ⟨3, ![1, 1024, 128]⟩
abbrev S1024x128 : Shape := ⟨2, ![1024, 128]⟩
abbrev S1024x512 : Shape := ⟨2, ![1024, 512]⟩
abbrev S1024x1 : Shape := ⟨2, ![1024, 1]⟩
abbrev S1024x256 : Shape := ⟨2, ![1024, 256]⟩

abbrev nBuf : Space → Nat
  | .hbm => 21
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S4x16384x128, .f32⟩
  | .hbm, ⟨2, _⟩ => ⟨S4x16384x128, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S16x1024, .f32⟩
  | .hbm, ⟨9, _⟩ => ⟨S16x1024, .bf16⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .bf16⟩
  | .hbm, ⟨14, _⟩ => ⟨S32x1024, .bf16⟩
  | .hbm, ⟨15, _⟩ => ⟨S1x512, .f32⟩
  | .hbm, ⟨16, _⟩ => ⟨S1x512, .f32⟩
  | .hbm, ⟨17, _⟩ => ⟨S1x1024, .f32⟩
  | .hbm, ⟨18, _⟩ => ⟨S16384x1024, .f32⟩
  | .hbm, ⟨19, _⟩ => ⟨S131072x128, .f32⟩
  | .hbm, ⟨20, _⟩ => ⟨S4x16x4096, .f32⟩
  | .local _ .vmem, ⟨0, _⟩ => ⟨S1024x1024, .f32⟩
  | .local _ .vmem, ⟨1, _⟩ => ⟨S1024x1024, .f32⟩
  | .local _ .vmem, ⟨2, _⟩ => ⟨S4x1024x128, .f32⟩
  | .local _ .vmem, ⟨3, _⟩ => ⟨S4x1024x128, .f32⟩
  | .local _ .vmem, ⟨4, _⟩ => ⟨S4x1024x128, .f32⟩
  | .local _ .vmem, ⟨5, _⟩ => ⟨S4x1024x128, .f32⟩
  | .local _ .vmem, ⟨6, _⟩ => ⟨S1x512, .f32⟩
  | .local _ .vmem, ⟨7, _⟩ => ⟨S1x512, .f32⟩
  | .local _ .vmem, ⟨8, _⟩ => ⟨S1024x1024, .f32⟩
  | .local _ .vmem, ⟨9, _⟩ => ⟨S1x1024, .f32⟩
  | .local _ .vmem, ⟨10, _⟩ => ⟨S32x1024, .bf16⟩
  | .local _ .vmem, ⟨11, _⟩ => ⟨S1024x1024, .f32⟩
  | .local _ .vmem, ⟨12, _⟩ => ⟨S1024x1024, .f32⟩
  | .local _ .vmem, ⟨13, _⟩ => ⟨S8192x128, .f32⟩
  | .local _ .vmem, ⟨14, _⟩ => ⟨S8192x128, .f32⟩
  | .local _ .vmem, ⟨15, _⟩ => ⟨S1x16x1024, .f32⟩
  | .local _ .vmem, ⟨16, _⟩ => ⟨S1x16x1024, .f32⟩
  | .local _ .vmem, ⟨17, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference3Ideal.lean ====
abbrev S16384x1024 : Shape := ⟨2, ![16384, 1024]⟩
abbrev S4x16384x128 : Shape := ⟨3, ![4, 16384, 128]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S16384x4x128 : Shape := ⟨3, ![16384, 4, 128]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S4x4096x1024 : Shape := ⟨3, ![4, 4096, 1024]⟩
abbrev S4x4096 : Shape := ⟨2, ![4, 4096]⟩
abbrev S4x4096x1 : Shape := ⟨3, ![4, 4096, 1]⟩
abbrev S1x1x1024 : Shape := ⟨3, ![1, 1, 1024]⟩
abbrev S131072x128 : Shape := ⟨2, ![131072, 128]⟩

abbrev nBuf : Space → Nat
  | .hbm => 67
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x128, .f32⟩
  | .hbm, ⟨2, _⟩ => ⟨S4x16384x128, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S16384x4x128, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x512, .f32⟩
  | .hbm, ⟨22, _⟩ => ⟨S16384x512, .f32⟩
  | .hbm, ⟨23, _⟩ => ⟨S1x512, .f32⟩
  | .hbm, ⟨24, _⟩ => ⟨S16384x512, .f32⟩
  | .hbm, ⟨25, _⟩ => ⟨S16384x512, .f32⟩
  | .hbm, ⟨26, _⟩ => ⟨S16384x4x128, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x512, .f32⟩
  | .hbm, ⟨40, _⟩ => ⟨S16384x512, .f32⟩
  | .hbm, ⟨41, _⟩ => ⟨S1x512, .f32⟩
  | .hbm, ⟨42, _⟩ => ⟨S16384x512, .f32⟩
  | .hbm, ⟨43, _⟩ => ⟨S16384x512, .f32⟩
  | .hbm, ⟨44, _⟩ => ⟨S16384x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x1024, .f32⟩
  | .hbm, ⟨61, _⟩ => ⟨S4x4096x1024, .f32⟩
  | .hbm, ⟨62, _⟩ => ⟨S1x1x1024, .f32⟩
  | .hbm, ⟨63, _⟩ => ⟨S4x4096x1024, .f32⟩
  | .hbm, ⟨64, _⟩ => ⟨S4x4096x1024, .f32⟩
  | .hbm, ⟨65, _⟩ => ⟨S16384x1024, .f32⟩
  | .hbm, ⟨66, _⟩ => ⟨S131072x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== Kernel4.lean ====
abbrev S16384x1024 : Shape := ⟨2, ![16384, 1024]⟩
abbrev S4x16384x128 : Shape := ⟨3, ![4, 16384, 128]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S16x1024 : Shape := ⟨2, ![16, 1024]⟩
abbrev S32x1024 : Shape := ⟨2, ![32, 1024]⟩
abbrev S1x512 : Shape := ⟨2, ![1, 512]⟩
abbrev S1x1024 : Shape := ⟨2, ![1, 1024]⟩
abbrev S131072x128 : Shape := ⟨2, ![131072, 128]⟩
abbrev S4x16x4096 : Shape := ⟨3, ![4, 16, 4096]⟩
abbrev S4x1024x128 : Shape := ⟨3, ![4, 1024, 128]⟩
abbrev S8192x128 : Shape := ⟨2, ![8192, 128]⟩
abbrev S1x16x1024 : Shape := ⟨3, ![1, 16, 1024]⟩
abbrev S1x1024x128 : Shape := ⟨3, ![1, 1024, 128]⟩
abbrev S1024x128 : Shape := ⟨2, ![1024, 128]⟩
abbrev S1024x512 : Shape := ⟨2, ![1024, 512]⟩
abbrev S1024x1 : Shape := ⟨2, ![1024, 1]⟩
abbrev S1024x256 : Shape := ⟨2, ![1024, 256]⟩

abbrev nBuf : Space → Nat
  | .hbm => 21
  | .vmem => 18
  | .smem => 0
  | _ => 0

abbrev bufTy : (tb : Table) → Fin (tcTables nBuf tb) → BufTy
  | .hbm, ⟨0, _⟩ => ⟨S16384x1024, .f32⟩
  | .hbm, ⟨1, _⟩ => ⟨S4x16384x128, .f32⟩
  | .hbm, ⟨2, _⟩ => ⟨S4x16384x128, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S16x1024, .f32⟩
  | .hbm, ⟨9, _⟩ => ⟨S16x1024, .bf16⟩
  | .hbm, ⟨10, _⟩ => ⟨S16x1024, .f32⟩
  | .hbm, ⟨11, _⟩ => ⟨S16x1024, .f32⟩
  | .hbm, ⟨12, _⟩ => ⟨S16x1024, .f32⟩
  | .hbm, ⟨13, _⟩ => ⟨S16x1024, .bf16⟩
  | .hbm, ⟨14, _⟩ => ⟨S32x1024, .bf16⟩
  | .hbm, ⟨15, _⟩ => ⟨S1x512, .f32⟩
  | .hbm, ⟨16, _⟩ => ⟨S1x512, .f32⟩
  | .hbm, ⟨17, _⟩ => ⟨S1x1024, .f32⟩
  | .hbm, ⟨18, _⟩ => ⟨S16384x1024, .f32⟩
  | .hbm, ⟨19, _⟩ => ⟨S131072x128, .f32⟩
  | .hbm, ⟨20, _⟩ => ⟨S4x16x4096, .f32⟩
  | .local _ .vmem, ⟨0, _⟩ => ⟨S1024x1024, .f32⟩
  | .local _ .vmem, ⟨1, _⟩ => ⟨S1024x1024, .f32⟩
  | .local _ .vmem, ⟨2, _⟩ => ⟨S4x1024x128, .f32⟩
  | .local _ .vmem, ⟨3, _⟩ => ⟨S4x1024x128, .f32⟩
  | .local _ .vmem, ⟨4, _⟩ => ⟨S4x1024x128, .f32⟩
  | .local _ .vmem, ⟨5, _⟩ => ⟨S4x1024x128, .f32⟩
  | .local _ .vmem, ⟨6, _⟩ => ⟨S1x512, .f32⟩
  | .local _ .vmem, ⟨7, _⟩ => ⟨S1x512, .f32⟩
  | .local _ .vmem, ⟨8, _⟩ => ⟨S1024x1024, .f32⟩
  | .local _ .vmem, ⟨9, _⟩ => ⟨S1x1024, .f32⟩
  | .local _ .vmem, ⟨10, _⟩ => ⟨S32x1024, .bf16⟩
  | .local _ .vmem, ⟨11, _⟩ => ⟨S1024x1024, .f32⟩
  | .local _ .vmem, ⟨12, _⟩ => ⟨S1024x1024, .f32⟩
  | .local _ .vmem, ⟨13, _⟩ => ⟨S8192x128, .f32⟩
  | .local _ .vmem, ⟨14, _⟩ => ⟨S8192x128, .f32⟩
  | .local _ .vmem, ⟨15, _⟩ => ⟨S1x16x1024, .f32⟩
  | .local _ .vmem, ⟨16, _⟩ => ⟨S1x16x1024, .f32⟩
  | .local _ .vmem, ⟨17, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x1024x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S8192x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x16x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference4Ideal.lean ====
abbrev S16384x1024 : Shape := ⟨2, ![16384, 1024]⟩
abbrev S4x16384x128 : Shape := ⟨3, ![4, 16384, 128]⟩
abbrev S512 : Shape := ⟨1, ![512]⟩
abbrev S1024x1024 : Shape := ⟨2, ![1024, 1024]⟩
abbrev S1024 : Shape := ⟨1, ![1024]⟩
abbrev S1024x16 : Shape := ⟨2, ![1024, 16]⟩
abbrev S16384x4x128 : Shape := ⟨3, ![16384, 4, 128]⟩
abbrev S16384x512 : Shape := ⟨2, ![16384, 512]⟩
abbrev S_ : Shape := ⟨0, ![]⟩
abbrev S16384 : Shape := ⟨1, ![16384]⟩
abbrev S16384x1 : Shape := ⟨2, ![16384, 1]⟩
abbrev S1x512 : Shape := ⟨2, ![1, 512]⟩
abbrev S4x4096x1024 : Shape := ⟨3, ![4, 4096, 1024]⟩
abbrev S4x4096 : Shape := ⟨2, ![4, 4096]⟩
abbrev S4x4096x1 : Shape := ⟨3, ![4, 4096, 1]⟩
abbrev S1x1x1024 : Shape := ⟨3, ![1, 1, 1024]⟩
abbrev S4x4096x16 : Shape := ⟨3, ![4, 4096, 16]⟩
abbrev S4x16x4096 : Shape := ⟨3, ![4, 16, 4096]⟩

abbrev nBuf : Space → Nat
  | .hbm => 81
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S4x16384x128, .f32⟩
  | .hbm, ⟨2, _⟩ => ⟨S4x16384x128, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S1024, .f32⟩
  | .hbm, ⟨7, _⟩ => ⟨S1024x16, .f32⟩
  | .hbm, ⟨8, _⟩ => ⟨S16384x4x128, .f32⟩
  | .hbm, ⟨9, _⟩ => ⟨S16384x512, .f32⟩
  | .hbm, ⟨10, _⟩ => ⟨S16384x512, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x512, .f32⟩
  | .hbm, ⟨22, _⟩ => ⟨S16384x512, .f32⟩
  | .hbm, ⟨23, _⟩ => ⟨S1x512, .f32⟩
  | .hbm, ⟨24, _⟩ => ⟨S16384x512, .f32⟩
  | .hbm, ⟨25, _⟩ => ⟨S16384x512, .f32⟩
  | .hbm, ⟨26, _⟩ => ⟨S16384x4x128, .f32⟩
  | .hbm, ⟨27, _⟩ => ⟨S16384x512, .f32⟩
  | .hbm, ⟨28, _⟩ => ⟨S16384x512, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x512, .f32⟩
  | .hbm, ⟨40, _⟩ => ⟨S16384x512, .f32⟩
  | .hbm, ⟨41, _⟩ => ⟨S1x512, .f32⟩
  | .hbm, ⟨42, _⟩ => ⟨S16384x512, .f32⟩
  | .hbm, ⟨43, _⟩ => ⟨S16384x512, .f32⟩
  | .hbm, ⟨44, _⟩ => ⟨S16384x1024, .f32⟩
  | .hbm, ⟨45, _⟩ => ⟨S4x4096x1024, .f32⟩
  | .hbm, ⟨46, _⟩ => ⟨S4x4096x1024, .f32⟩
  | .hbm, ⟨47, _⟩ => ⟨S4x4096x1024, .f32⟩
  | .hbm, ⟨48, _⟩ => ⟨S4x4096x1024, .f32⟩
  | .hbm, ⟨49, _⟩ => ⟨S4x4096x1024, .f32⟩
  | .hbm, ⟨50, _⟩ => ⟨S_, .f32⟩
  | .hbm, ⟨51, _⟩ => ⟨S4x4096, .f32⟩
  | .hbm, ⟨52, _⟩ => ⟨S4x4096x1, .f32⟩
  | .hbm, ⟨53, _⟩ => ⟨S_, .f32⟩
  | .hbm, ⟨54, _⟩ => ⟨S4x4096x1, .f32⟩
  | .hbm, ⟨55, _⟩ => ⟨S4x4096x1, .f32⟩
  | .hbm, ⟨56, _⟩ => ⟨S_, .f32⟩
  | .hbm, ⟨57, _⟩ => ⟨S4x4096x1, .f32⟩
  | .hbm, ⟨58, _⟩ => ⟨S4x4096x1, .f32⟩
  | .hbm, ⟨59, _⟩ => ⟨S4x4096x1, .f32⟩
  | .hbm, ⟨60, _⟩ => ⟨S4x4096x1024, .f32⟩
  | .hbm, ⟨61, _⟩ => ⟨S4x4096x1024, .f32⟩
  | .hbm, ⟨62, _⟩ => ⟨S1x1x1024, .f32⟩
  | .hbm, ⟨63, _⟩ => ⟨S4x4096x1024, .f32⟩
  | .hbm, ⟨64, _⟩ => ⟨S4x4096x1024, .f32⟩
  | .hbm, ⟨65, _⟩ => ⟨S4x4096x16, .f32⟩
  | .hbm, ⟨66, _⟩ => ⟨S_, .f32⟩
  | .hbm, ⟨67, _⟩ => ⟨S4x4096, .f32⟩
  | .hbm, ⟨68, _⟩ => ⟨S_, .f32⟩
  | .hbm, ⟨69, _⟩ => ⟨S4x4096, .f32⟩
  | .hbm, ⟨70, _⟩ => ⟨S4x4096, .f32⟩
  | .hbm, ⟨71, _⟩ => ⟨S4x4096x1, .f32⟩
  | .hbm, ⟨72, _⟩ => ⟨S4x4096x16, .f32⟩
  | .hbm, ⟨73, _⟩ => ⟨S4x4096x16, .f32⟩
  | .hbm, ⟨74, _⟩ => ⟨S4x4096x16, .f32⟩
  | .hbm, ⟨75, _⟩ => ⟨S_, .f32⟩
  | .hbm, ⟨76, _⟩ => ⟨S4x4096, .f32⟩
  | .hbm, ⟨77, _⟩ => ⟨S4x4096x1, .f32⟩
  | .hbm, ⟨78, _⟩ => ⟨S4x4096x16, .f32⟩
  | .hbm, ⟨79, _⟩ => ⟨S4x4096x16, .f32⟩
  | .hbm, ⟨80, _⟩ => ⟨S4x16x4096, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_5 : Ref sig .tc := ⟨.hbm, 50, rfl⟩
abbrev main_v36 : Ref sig .tc := ⟨.hbm, 51, rfl⟩
abbrev main_v37 : Ref sig .tc := ⟨.hbm, 52, rfl⟩
abbrev main_cst_6 : Ref sig .tc := ⟨.hbm, 53, rfl⟩
abbrev main_v38 : Ref sig .tc := ⟨.hbm, 54, rfl⟩
abbrev main_v39 : Ref sig .tc := ⟨.hbm, 55, rfl⟩
abbrev main_cst_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]
-- ==== Proof.Shape.lean ====
/-
  The experts' kernel body with its unrolled row copies written as counted sequences.

  The printed body names every one of its row copies. Here the same program is written once more with the copies of
  one chunk as one definition by recursion (`copies`), and the arithmetic of one block of columns as `block`; the two
  programs are equal by unfolding (`cc0_experts_eq`).
-/
module

public import proofs.«01_k».proof.KernelIdeal
public import Idealize.ShloMosaic.Lib.Tactic

@[expose] public section

noncomputable section

namespace Cert.KernelIdeal.Experts

open Cert.KernelIdeal
open Idealize.ShloMosaic Idealize.ShloMosaic.TcCoe Idealize.SL.Sem
open Facts K0.R1.Facts₀ Shapes1.Facts₀ K0.R3.Facts₀ K0.R5.Facts₀

variable {F : FTy → Type} [FloatOps F] [Facts]

/-! ## The arithmetic -/

/-- One block of 256 hidden columns: `silu(x·a) * (x·b)`, rounded to bf16. -/
def glu (x : FVec F S1024x1024 .bf16) (a b : FVec F S1024x256 .bf16) : FVec F S1024x256 .bf16 :=
  truncf .bf16 (mulf (mulf (matmul dot_S1024x1024_S1024x256_S1024x256_1_0_0_1_n_n none x a (constant S1024x256 .f32 0x00000000#32))
      (logistic (matmul dot_S1024x1024_S1024x256_S1024x256_1_0_0_1_n_n none x a (constant S1024x256 .f32 0x00000000#32))))
    (matmul dot_S1024x1024_S1024x256_S1024x256_1_0_0_1_n_n none x b (constant S1024x256 .f32 0x00000000#32))) bitsLt_bf16_f32

/-- The 512 hidden columns of one grid point: two blocks side by side. -/
def hidden (x : FVec F S1024x1024 .bf16) (wg wu : FVec F S1024x512 .bf16) : FVec F S1024x512 .bf16 :=
  concatenate S1024x512 1
    [⟨S1024x256, glu x (extractStridedSlice S1024x256 ![0, 0] wg slices_S1024x512_o0_0_S1024x256) (extractStridedSlice S1024x256 ![0, 0] wu slices_S1024x512_o0_0_S1024x256)⟩,
     ⟨S1024x256, glu x (extractStridedSlice S1024x256 ![0, 256] wg slices_S1024x512_o0_256_S1024x256) (extractStridedSlice S1024x256 ![0, 256] wu slices_S1024x512_o0_256_S1024x256)⟩]
    concatenates_S1024x256_S1024x256_S1024x512_d1

/-- What one grid point adds to a chunk of 1024 output rows: its hidden columns times its rows of the last weight. -/
def block (x : FVec F S1024x1024 .bf16) (wg wu : FVec F S1024x512 .bf16) (wd : FVec F S512x1024 .bf16) : FVec F S1024x1024 .f32 :=
  matmul dot_S1024x512_S512x1024_S1024x1024_1_0_0_1_n_n none (hidden x wg wu) wd (constant S1024x1024 .f32 0x00000000#32)

/-- A block of the first two weights as the products read it. -/
def wIn (w : Vec F S1x1024x512 .f32) : FVec F S1024x512 .bf16 :=
  truncf .bf16 (shapeCast S1024x512 w shapeCasts_S1x1024x512_S1024x512 : FVec F S1024x512 .f32) bitsLt_bf16_f32

/-- A block of the last weight as the product reads it. -/
def wOut (w : Vec F S1x512x1024 .f32) : FVec F S512x1024 .bf16 :=
  truncf .bf16 (shapeCast S512x1024 w shapeCasts_S1x512x1024_S512x1024 : FVec F S512x1024 .f32) bitsLt_bf16_f32

/-- One column block of the gathered rows, without its leading axis. -/
def col (v : Vec F S1x1024x128 .f32) : FVec F S1024x128 .f32 := shapeCast S1024x128 v shapeCasts_S1x1024x128_S1024x128

/-- The eight column blocks of a chunk's gathered rows side by side, rounded to bf16. -/
def rowsOf (v0 v1 v2 v3 v4 v5 v6 v7 : Vec F S1x1024x128 .f32) : FVec F S1024x1024 .bf16 :=
  shapeCast S1024x1024 (truncf .bf16 (concatenate S1024x1024 1
    [⟨S1024x128, col v0⟩, ⟨S1024x128, col v1⟩, ⟨S1024x128, col v2⟩, ⟨S1024x128, col v3⟩, ⟨S1024x128, col v4⟩, ⟨S1024x128, col v5⟩,
     ⟨S1024x128, col v6⟩, ⟨S1024x128, col v7⟩]
    concatenates_S1024x128_S1024x128_S1024x128_S1024x128_S1024x128_S1024x128_S1024x128_S1024x128_S1024x1024_d1 : FVec F S1024x1024 .f32) bitsLt_bf16_f32)
    shapeCasts_S1024x1024_S1024x1024

/-- What the expert's first grid point stores in a chunk of the output. -/
def outFirst (x : FVec F S1024x1024 .bf16) (wg wu : FVec F S1024x512 .bf16) (wd : FVec F S512x1024 .bf16) : FVec F S1x1024x1024 .f32 :=
  shapeCast S1x1024x1024 (block x wg wu wd) shapeCasts_S1024x1024_S1x1024x1024

/-- What the expert's later grid points store in a chunk of the output that holds `y`. -/
def outLater (x : FVec F S1024x1024 .bf16) (wg wu : FVec F S1024x512 .bf16) (wd : FVec F S512x1024 .bf16) (y : Vec F S1x1024x1024 .f32) : FVec F S1x1024x1024 .f32 :=
  shapeCast S1x1024x1024 (addf (shapeCast S1024x1024 y shapeCasts_S1x1024x1024_S1024x1024 : FVec F S1024x1024 .f32) (block x wg wu wd)) shapeCasts_S1024x1024_S1x1024x1024

/-! ## The words the copies are addressed by -/

/-- The slot the point's expert reads its rows from, as the kernel computes it. -/
def slotW (i : grid0.Coords) : BitVec 32 :=
  let arg0 : BitVec 32 := BitVec.ofNat 32 (i 0).val
  let v1 : BitVec 32 := Scalar.select (Scalar.cmpi .eq 2#32 0#32) 1#32 2#32
  let v2 : BitVec 32 := Scalar.remsi arg0 v1
  Scalar.select (Scalar.andi (Scalar.xori (Scalar.cmpi .slt v2 0#32) (Scalar.cmpi .slt v1 0#32)) (Scalar.cmpi .ne v2 0#32)) (Scalar.addi v2 v1) v2

/-- The other slot, which the point's copies fill. -/
def otherW (i : grid0.Coords) : BitVec 32 := Scalar.subi 1#32 (slotW i)

/-- The list position of the point's copy `r` of chunk `m`. -/
def posW (i : grid0.Coords) (m r : ℕ) : BitVec 32 :=
  Scalar.addi (Scalar.muli (Scalar.addi (Scalar.muli (BitVec.ofNat 32 (i 1).val) 2#32) (BitVec.ofNat 32 m)) 256#32) (BitVec.ofNat 32 r)

/-- What a copy asks of the index word it reads: a multiple of eight, and eight rows from it inside the table. -/
def Chk (g : BitVec 1) (v : BitVec 32) : Prop :=
  (∀ (h : g = 1#1), 8 ∣ v.toNat) ∧ (∀ (h : g = 1#1), ∀ a, (![v.toNat, 0] : Fin 2 → ℕ) a + S8x128.size a ≤ S131072x128.size a)

instance Chk.dec (g : BitVec 1) (v : BitVec 32) : Decidable (Chk g v) := decidable_of_iff' _ (Iff.of_eq (Chk.eq_1 g v))

theorem coord1_lt (i : grid0.Coords) : (i 1).val < 4 := (i 1).isLt
theorem coord0_lt (i : grid0.Coords) : (i 0).val < 16 := (i 0).isLt

theorem posW_toNat (i : grid0.Coords) {m r : ℕ} (hm : m < 2) (hr : r < 256) : (posW i m r).toNat = 512 * (i 1).val + 256 * m + r := by
  have := coord1_lt i
  simp only [posW, Scalar.addi, Scalar.muli, IntOp.addi, IntOp.muli, BitVec.toNat_add, BitVec.toNat_mul, BitVec.toNat_ofNat]
  omega

theorem slotW_toNat (i : grid0.Coords) : (slotW i).toNat = (i 0).val % 2 := by
  have h := coord0_lt i
  unfold slotW
  generalize (i 0).val = e at h ⊢
  revert e
  decide

theorem otherW_toNat (i : grid0.Coords) : (otherW i).toNat = 1 - (i 0).val % 2 := by
  have h := coord0_lt i
  unfold otherW slotW
  generalize (i 0).val = e at h ⊢
  revert e
  decide

theorem rowW_toNat (i : grid0.Coords) {m r : ℕ} (hm : m < 2) (hr : r < 256) :
    (Scalar.muli (posW i m r) 8#32).toNat = 8 * (512 * (i 1).val + 256 * m + r) := by
  have := coord1_lt i
  have h := posW_toNat i hm hr
  simp only [Scalar.muli, IntOp.muli, BitVec.toNat_mul, BitVec.toNat_ofNat, h]
  omega

theorem list_inb (i : grid0.Coords) {m r : ℕ} (hm : m < 2) (hr : r < 256) :
    ∀ a, (![0, 0, (Scalar.indexCast (posW i m r)).toNat] : Fin 3 → ℕ) a + S1x1x1.size a ≤ S1x1x2048.size a := by
  have := coord1_lt i
  have h : (Scalar.indexCast (posW i m r)).toNat = 512 * (i 1).val + 256 * m + r := posW_toNat i hm hr
  intro a; fin_cases a
  · exact Nat.le_refl 1
  · exact Nat.le_refl 1
  · show (Scalar.indexCast (posW i m r)).toNat + 1 ≤ 2048
    omega

theorem sem_inb {o : ℕ} (ho : o < 2) : ∀ a, (![o] : Fin 1 → ℕ) a + S1.size a ≤ S2.size a := by
  intro a; fin_cases a
  show o + 1 ≤ 2
  omega

theorem rows_inb {o p : ℕ} (ho : o < 2) (hp : p < 2048) : ∀ a, (![o, 8 * p, 0] : Fin 3 → ℕ) a + S1x8x128.size a ≤ S2x16384x128.size a := by
  intro a; fin_cases a
  · show o + 1 ≤ 2
    omega
  · show 8 * p + 8 ≤ 16384
    omega
  · exact Nat.le_refl 128

theorem slot_inb {o : ℕ} (ho : o < 2) : ∀ a, (![o, 0, 0] : Fin 3 → ℕ) a + S1x16384x128.size a ≤ S2x16384x128.size a := by
  intro a; fin_cases a
  · show o + 1 ≤ 2
    omega
  · exact Nat.le_refl 16384
  · exact Nat.le_refl 128

theorem col_inb {o b : ℕ} (ho : o < 2) (hb : b < 8200) :
    ∀ a, S1x1024x128.size a = 0 ∨ (![o, b, 0] : Fin 3 → ℕ) a + (![1, 8, 1] : Fin 3 → ℕ) a * (S1x1024x128.size a - 1) < S2x16384x128.size a := by
  intro a; right; fin_cases a
  · show o + 1 * 0 < 2
    omega
  · show b + 8 * 1023 < 16384
    omega
  · show 0 + 1 * 127 < 128
    omega

theorem slotW_lt (i : grid0.Coords) : (slotW i).toNat < 2 := by rw [slotW_toNat]; omega
theorem otherW_lt (i : grid0.Coords) : (otherW i).toNat < 2 := by rw [otherW_toNat]; omega

/-! ## The program -/

/-- The eight rows from row `8 p` of the rows buffer's slot `o`. -/
abbrev rowAt (arg9 : Memref sig .tc .vmem S2x16384x128 .f32) (off : Fin 3 → ℕ) (h : ∀ a, off a + S1x8x128.size a ≤ S2x16384x128.size a) : Memref sig .tc .vmem S8x128 .f32 :=
  (arg9.slice (Rect.unit (s := S2x16384x128) off S1x8x128.size h) (fun _ => rfl)).squeeze S8x128 squeezes_S1x8x128_S8x128

/-- A slot of the rows buffer. -/
abbrev slotAt (arg9 : Memref sig .tc .vmem S2x16384x128 .f32) (off : Fin 3 → ℕ) (h : ∀ a, off a + S1x16384x128.size a ≤ S2x16384x128.size a) : Memref sig .tc .vmem S16384x128 .f32 :=
  (arg9.slice (Rect.unit (s := S2x16384x128) off S1x16384x128.size h) (fun _ => rfl)).squeeze S16384x128 squeezes_S1x16384x128_S16384x128

/-- A slot's semaphore. -/
abbrev semAt (arg12 : DmaSems sig S2) (off : Fin 1 → ℕ) (h : ∀ a, off a + S1.size a ≤ S2.size a) :=
  ((arg12.slice (Rect.unit (s := S2) off S1.size h)).squeeze S_ squeezes_S1_S_).sem

/-- The eight rows of the table from row `v`. -/
abbrev tabAt (arg4 : Memref sig .tc .hbm S131072x128 .f32) (v : BitVec 32) (h : ∀ a, (![v.toNat, 0] : Fin 2 → ℕ) a + S8x128.size a ≤ S131072x128.size a) : Memref sig .tc .hbm S8x128 .f32 :=
  arg4.slice (Rect.unit (s := S131072x128) ![v.toNat, 0] S8x128.size h) (fun _ => rfl)

/-- One copy: read an index word, check it, and start eight rows of the table on their way to the rows buffer. -/
def copyOne (g : BitVec 1) (hg : g = 1#1) (lst : Memref sig .tc .smem S1x1x2048 .i32) (arg4 : Memref sig .tc .hbm S131072x128 .f32)
    (arg9 : Memref sig .tc .vmem S2x16384x128 .f32) (arg12 : DmaSems sig S2)
    (lo : Fin 3 → ℕ) (hlo : ∀ a, lo a + S1x1x1.size a ≤ S1x1x2048.size a)
    (so : Fin 1 → ℕ) (hso : ∀ a, so a + S1.size a ≤ S2.size a)
    (ro : Fin 3 → ℕ) (hro : ∀ a, ro a + S1x8x128.size a ≤ S2x16384x128.size a) : Prog (TpuEff nD τ sig (Elt F) Λ₀ .tc) PUnit := do
  let v : Elt F .i32 ← smemLoad lst (Rect.unit (s := S1x1x2048) lo S1x1x1.size hlo) numel1_S1x1x1 rfl
  have hw : Chk g v := (← Prog.lift (TpuEff.assume (Chk g v) (Chk.dec g v))).down
  Prog.lift (.enqueueDma (tabAt arg4 v (hw.2 hg)) (.here (rowAt arg9 ro hro)) (.dma (semAt arg12 so hso)) (View.wordExact_bits rfl) ((View.wordExact_bits rfl).reshape _ _) ⟨Or.inl rfl, trivial⟩)

theorem row_inb (i : grid0.Coords) {m r : ℕ} (hm : m < 2) (hr : r < 256) :
    ∀ a, (![(otherW i).toNat, (Scalar.muli (posW i m r) 8#32).toNat, 0] : Fin 3 → ℕ) a + S1x8x128.size a ≤ S2x16384x128.size a := by
  have := coord1_lt i
  rw [rowW_toNat i hm hr]
  exact rows_inb (otherW_lt i) (by omega)

/-- `n` copies of chunk `m` from the point's copy `r` on. -/
def copies (g : BitVec 1) (hg : g = 1#1) (lst : Memref sig .tc .smem S1x1x2048 .i32) (arg4 : Memref sig .tc .hbm S131072x128 .f32)
    (arg9 : Memref sig .tc .vmem S2x16384x128 .f32) (arg12 : DmaSems sig S2) (i : grid0.Coords) (m : ℕ) (hm : m < 2) :
    (n r : ℕ) → r + n ≤ 256 → Prog (TpuEff nD τ sig (Elt F) Λ₀ .tc) PUnit
  | 0, _, _ => pure ⟨⟩
  | n + 1, r, h => do
    copyOne g hg lst arg4 arg9 arg12 ![0, 0, (Scalar.indexCast (posW i m r)).toNat] (list_inb i hm (by omega))
      ![(otherW i).toNat] (sem_inb (otherW_lt i))
      ![(otherW i).toNat, (Scalar.muli (posW i m r) 8#32).toNat, 0] (row_inb i hm (by omega))
    copies g hg lst arg4 arg9 arg12 i m hm n (r + 1) (by omega)

/-- Wait for all rows of a slot. -/
def await (arg4 : Memref sig .tc .hbm S131072x128 .f32) (arg9 : Memref sig .tc .vmem S2x16384x128 .f32) (arg12 : DmaSems sig S2)
    (o : ℕ) (ho : o < 2) : Prog (TpuEff nD τ sig (Elt F) Λ₀ .tc) PUnit :=
  Prog.lift (.waitDma2 (semAt arg12 ![o] (sem_inb ho))
    (arg4.slice (Rect.unit (s := S131072x128) ![0, 0] S16384x128.size inb_S131072x128_S16384x128_0_0) (fun _ => rfl))
    (slotAt arg9 ![o, 0, 0] (slot_inb ho)) (View.wordExact_bits rfl) ((View.wordExact_bits rfl).reshape _ _))

/-- One column block of a slot's gathered rows, as rows `b, b + 8, …` of the buffer. -/
def loadCol (arg9 : Memref sig .tc .vmem S2x16384x128 .f32) (o : ℕ) (ho : o < 2) (b : ℕ) (hb : b < 8200) : Prog (TpuEff nD τ sig (Elt F) Λ₀ .tc) (Vec F S1x1024x128 .f32) :=
  Prog.lift (.load arg9 (⟨![o, b, 0], S1x1024x128.size, ![1, 8, 1], col_inb ho hb⟩ : LoadRect S2x16384x128) (View.loadsAt_vmem h_S1x1024x128))

/-- Read a whole rows chunk. -/
def loadX (x : Memref sig .tc .vmem S1024x1024 .bf16) : Prog (TpuEff nD τ sig (Elt F) Λ₀ .tc) (Vec F S1024x1024 .bf16) :=
  Prog.lift (.load x (Rect.unit (s := S1024x1024) ![0, 0] S1024x1024.size inb_S1024x1024_S1024x1024_0_0).toLoadRect (View.loadsAt_vmem h_S1024x1024))

/-- Collect chunk rows from the slot into a chunk scratch, and read the scratch back. -/
def collect (arg9 : Memref sig .tc .vmem S2x16384x128 .f32) (x : Memref sig .tc .vmem S1024x1024 .bf16) (hx : x.IsWhole) (o : ℕ) (ho : o < 2) (b : ℕ) (hb : b < 8193) :
    Prog (TpuEff nD τ sig (Elt F) Λ₀ .tc) (Vec F S1024x1024 .bf16) := do
  let v0 ← loadCol arg9 o ho b (by omega)
  let v1 ← loadCol arg9 o ho (b + 1) (by omega)
  let v2 ← loadCol arg9 o ho (b + 2) (by omega)
  let v3 ← loadCol arg9 o ho (b + 3) (by omega)
  let v4 ← loadCol arg9 o ho (b + 4) (by omega)
  let v5 ← loadCol arg9 o ho (b + 5) (by omega)
  let v6 ← loadCol arg9 o ho (b + 6) (by omega)
  let v7 ← loadCol arg9 o ho (b + 7) (by omega)
  let _ ← loadX x
  Prog.lift (.store x (Rect.unit (s := S1024x1024) ![0, 0] S1024x1024.size inb_S1024x1024_S1024x1024_0_0) (rowsOf v0 v1 v2 v3 v4 v5 v6 v7) Finset.univ (View.stores_vmem h_S1024x1024 (hx.storeExact_slice rfl _ packedbf16_S1024x1024_S1024x1024_0_0) (fun _ => rfl)) (.inl rfl))
  loadX x

/-- Read a weight block of the first two products. -/
def loadIn (w : Memref sig .tc .vmem S1x1024x512 .f32) : Prog (TpuEff nD τ sig (Elt F) Λ₀ .tc) (Vec F S1x1024x512 .f32) :=
  Prog.lift (.load w (Rect.unit (s := S1x1024x512) ![0, 0, 0] S1x1024x512.size inb_S1x1024x512_S1x1024x512_0_0_0).toLoadRect (View.loadsAt_vmem h_S1x1024x512))

/-- Read a weight block of the last product. -/
def loadOut (w : Memref sig .tc .vmem S1x512x1024 .f32) : Prog (TpuEff nD τ sig (Elt F) Λ₀ .tc) (Vec F S1x512x1024 .f32) :=
  Prog.lift (.load w (Rect.unit (s := S1x512x1024) ![0, 0, 0] S1x512x1024.size inb_S1x512x1024_S1x512x1024_0_0_0).toLoadRect (View.loadsAt_vmem h_S1x512x1024))

/-- Read a chunk of the output block. -/
def loadY (arg8 : Memref sig .tc .vmem S1x2048x1024 .f32) (off : Fin 3 → ℕ) (h : ∀ a, off a + S1x1024x1024.size a ≤ S1x2048x1024.size a) : Prog (TpuEff nD τ sig (Elt F) Λ₀ .tc) (Vec F S1x1024x1024 .f32) :=
  Prog.lift (.load arg8 (Rect.unit (s := S1x2048x1024) off S1x1024x1024.size h).toLoadRect (View.loadsAt_vmem h_S1x1024x1024))

/-- Write a chunk of the output block. -/
def storeY (arg8 : Memref sig .tc .vmem S1x2048x1024 .f32) (off : Fin 3 → ℕ) (h : ∀ a, off a + S1x1024x1024.size a ≤ S1x2048x1024.size a) (v : FVec F S1x1024x1024 .f32) : Prog (TpuEff nD τ sig (Elt F) Λ₀ .tc) PUnit :=
  Prog.lift (.store arg8 (Rect.unit (s := S1x2048x1024) off S1x1024x1024.size h) v Finset.univ (View.stores_vmem_bits_univ h_S1x1024x1024 rfl) (.inl rfl))

/-- The expert's first grid point: wait for its rows, and for each chunk collect the rows, store the point's products,
and start the chunk's share of the next expert's copies. -/
def firstPoint (i : grid0.Coords) (hg : k0_cond2 i = 1#1) (arg3 : Memref sig .tc .smem S1x1x2048 .i32) (arg4 : Memref sig .tc .hbm S131072x128 .f32)
    (arg5 arg6 : Memref sig .tc .vmem S1x1024x512 .f32) (arg7 : Memref sig .tc .vmem S1x512x1024 .f32) (arg8 : Memref sig .tc .vmem S1x2048x1024 .f32)
    (arg9 : Memref sig .tc .vmem S2x16384x128 .f32) (arg10 : Memref sig .tc .vmem S1024x1024 .bf16) (harg10 : arg10.IsWhole)
    (arg11 : Memref sig .tc .vmem S1024x1024 .bf16) (harg11 : arg11.IsWhole) (arg12 : DmaSems sig S2) : Prog (TpuEff nD τ sig (Elt F) Λ₀ .tc) PUnit := do
  await arg4 arg9 arg12 (slotW i).toNat (slotW_lt i)
  let wg ← loadIn arg5
  let wu ← loadIn arg6
  let wd ← loadOut arg7
  let x0 ← collect arg9 arg10 harg10 (slotW i).toNat (slotW_lt i) 0 (by omega)
  let _ ← loadY arg8 ![0, 0, 0] inb_S1x2048x1024_S1x1024x1024_0_0_0
  storeY arg8 ![0, 0, 0] inb_S1x2048x1024_S1x1024x1024_0_0_0 (outFirst x0 (wIn wg) (wIn wu) (wOut wd))
  copies (k0_cond2 i) hg arg3 arg4 arg9 arg12 i 0 (by omega) 256 0 (by omega)
  let x1 ← collect arg9 arg11 harg11 (slotW i).toNat (slotW_lt i) 8192 (by omega)
  let _ ← loadY arg8 ![0, 1024, 0] inb_S1x2048x1024_S1x1024x1024_0_1024_0
  storeY arg8 ![0, 1024, 0] inb_S1x2048x1024_S1x1024x1024_0_1024_0 (outFirst x1 (wIn wg) (wIn wu) (wOut wd))
  copies (k0_cond2 i) hg arg3 arg4 arg9 arg12 i 1 (by omega) 256 0 (by omega)

/-- A later grid point of the expert: for each chunk add the point's products, and start the chunk's share of the next
expert's copies. -/
def laterPoint (i : grid0.Coords) (hg : k0_cond3 i = 1#1) (arg3 : Memref sig .tc .smem S1x1x2048 .i32) (arg4 : Memref sig .tc .hbm S131072x128 .f32)
    (arg5 arg6 : Memref sig .tc .vmem S1x1024x512 .f32) (arg7 : Memref sig .tc .vmem S1x512x1024 .f32) (arg8 : Memref sig .tc .vmem S1x2048x1024 .f32)
    (arg9 : Memref sig .tc .vmem S2x16384x128 .f32) (arg10 : Memref sig .tc .vmem S1024x1024 .bf16)
    (arg11 : Memref sig .tc .vmem S1024x1024 .bf16) (arg12 : DmaSems sig S2) : Prog (TpuEff nD τ sig (Elt F) Λ₀ .tc) PUnit := do
  let wg ← loadIn arg5
  let wu ← loadIn arg6
  let wd ← loadOut arg7
  let x0 ← loadX arg10
  let y0 ← loadY arg8 ![0, 0, 0] inb_S1x2048x1024_S1x1024x1024_0_0_0
  let _ ← loadY arg8 ![0, 0, 0] inb_S1x2048x1024_S1x1024x1024_0_0_0
  storeY arg8 ![0, 0, 0] inb_S1x2048x1024_S1x1024x1024_0_0_0 (outLater x0 (wIn wg) (wIn wu) (wOut wd) y0)
  copies (k0_cond3 i) hg arg3 arg4 arg9 arg12 i 0 (by omega) 256 0 (by omega)
  let x1 ← loadX arg11
  let y1 ← loadY arg8 ![0, 1024, 0] inb_S1x2048x1024_S1x1024x1024_0_1024_0
  let _ ← loadY arg8 ![0, 1024, 0] inb_S1x2048x1024_S1x1024x1024_0_1024_0
  storeY arg8 ![0, 1024, 0] inb_S1x2048x1024_S1x1024x1024_0_1024_0 (outLater x1 (wIn wg) (wIn wu) (wOut wd) y1)
  copies (k0_cond3 i) hg arg3 arg4 arg9 arg12 i 1 (by omega) 256 0 (by omega)

/-- The very first grid point's own copies, for the first expert. -/
def firstCopies (i : grid0.Coords) (hg : k0_cond1 i = 1#1) (arg2 : Memref sig .tc .smem S1x1x2048 .i32) (arg4 : Memref sig .tc .hbm S131072x128 .f32)
    (arg9 : Memref sig .tc .vmem S2x16384x128 .f32) (arg12 : DmaSems sig S2) : Prog (TpuEff nD τ sig (Elt F) Λ₀ .tc) PUnit :=
  Scf.Loop.for k0_t1_loop (k0_t1_ok i hg) ⟨⟩ fun t _ =>
    copyOne (k0_cond1 i) hg arg2 arg4 arg9 arg12 (k0_off1 t) (k0_off1_inb i t hg) ![0] inb_S2_S1_0 (k0_off2 t) (k0_off2_inb i t hg)

/-- The kernel's body. -/
def body (i : grid0.Coords) (arg2 arg3 : Memref sig .tc .smem S1x1x2048 .i32) (arg4 : Memref sig .tc .hbm S131072x128 .f32)
    (arg5 arg6 : Memref sig .tc .vmem S1x1024x512 .f32) (arg7 : Memref sig .tc .vmem S1x512x1024 .f32) (arg8 : Memref sig .tc .vmem S1x2048x1024 .f32)
    (arg9 : Memref sig .tc .vmem S2x16384x128 .f32) (arg10 : Memref sig .tc .vmem S1024x1024 .bf16) (harg10 : arg10.IsWhole)
    (arg11 : Memref sig .tc .vmem S1024x1024 .bf16) (harg11 : arg11.IsWhole) (arg12 : DmaSems sig S2) : Prog (TpuEff nD τ sig (Elt F) Λ₀ .tc) PUnit := do
  if hg : k0_cond1 i = 1#1 then firstCopies i hg arg2 arg4 arg9 arg12
  if hg : k0_cond2 i = 1#1 then firstPoint i hg arg3 arg4 arg5 arg6 arg7 arg8 arg9 arg10 harg10 arg11 harg11 arg12
  if hg : k0_cond3 i = 1#1 then laterPoint i hg arg3 arg4 arg5 arg6 arg7 arg8 arg9 arg10 arg11 arg12
  if hg : k0_cond4 i = 1#1 then await arg4 arg9 arg12 (otherW i).toNat (otherW_lt i)

set_option maxRecDepth 100000 in
set_option maxHeartbeats 0 in
/-- The printed body is this body. -/
theorem cc0_experts_eq (i : grid0.Coords) (arg2 : Memref sig .tc .smem S1x1x2048 .i32) (harg2 : arg2.IsWhole) (arg3 : Memref sig .tc .smem S1x1x2048 .i32) (harg3 : arg3.IsWhole)
    (arg4 : Memref sig .tc .hbm S131072x128 .f32) (harg4 : arg4.IsWhole) (arg5 : Memref sig .tc .vmem S1x1024x512 .f32) (harg5 : arg5.IsWhole)
    (arg6 : Memref sig .tc .vmem S1x1024x512 .f32) (harg6 : arg6.IsWhole) (arg7 : Memref sig .tc .vmem S1x512x1024 .f32) (harg7 : arg7.IsWhole)
    (arg8 : Memref sig .tc .vmem S1x2048x1024 .f32) (harg8 : arg8.IsWhole) (arg9 : Memref sig .tc .vmem S2x16384x128 .f32) (harg9 : arg9.IsWhole)
    (arg10 : Memref sig .tc .vmem S1024x1024 .bf16) (harg10 : arg10.IsWhole) (arg11 : Memref sig .tc .vmem S1024x1024 .bf16) (harg11 : arg11.IsWhole) (arg12 : DmaSems sig S2) :
    cc0_experts (F := F) i arg2 harg2 arg3 harg3 arg4 harg4 arg5 harg5 arg6 harg6 arg7 harg7 arg8 harg8 arg9 harg9 arg10 harg10 arg11 harg11 arg12
      = body i arg2 arg3 arg4 arg5 arg6 arg7 arg8 arg9 arg10 harg10 arg11 harg11 arg12 := by
  sl_kernel_rfl

end Cert.KernelIdeal.Experts

end
-- ==== Proof.Copies.lean ====
/-
  The row copies: what each moves, and the batch they make on a slot's semaphore.
-/
module

public import proofs.«01_k».proof.Proof.Shape
public import Idealize.ShloMosaic.Lib.Pipeline.FrameBody
public import Idealize.ShloMosaic.Lib.Batch
public import Idealize.ShloMosaic.Lib.ValueLayout
public import Idealize.ShloMosaic.Lib.VecWindow
public import Idealize.ShloMosaic.Lib.Tactic

@[expose] public section

noncomputable section

namespace Cert.KernelIdeal.Experts

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Facts K0.R1.Facts₀ Shapes1.Facts₀ K0.R3.Facts₀ K0.R5.Facts₀

variable {F : FTy → Type} [FloatOps F] [Facts]

/-- The algebra of the proof: the pipeline's beside the transfers' counters. -/
local notation "𝕄" => MT nD τ sig Unit (Elt F) ℕ (Pipeline.UD sig nD τ) ℕ

/-- The rows buffer, the two chunk scratches, the table, the two semaphores. -/
abbrev rowsM : Memref sig .tc .vmem S2x16384x128 .f32 := Memref.whole cc0_scratch0
abbrev chunkA : Memref sig .tc .vmem S1024x1024 .bf16 := Memref.whole cc0_scratch1
abbrev chunkB : Memref sig .tc .vmem S1024x1024 .bf16 := Memref.whole cc0_scratch2
abbrev tabM : Memref sig .tc .hbm S131072x128 .f32 := Memref.whole main_arg1
abbrev semsM : DmaSems sig S2 := cc0_scratch3

/-- The index of the rows buffer in slot `o`, row `p`, lane `l`. -/
abbrev rowIx (o p : ℕ) (ho : o < 2) (hp : p < 16384) (l : Fin 128) : S2x16384x128.Idx := ix3 ⟨o, ho⟩ ⟨p, hp⟩ l

/-- Row `p` of the table, lane `l` (past the table's end, around it). -/
abbrev tabIx (p : ℕ) (l : Fin 128) : S131072x128.Idx := ix2 ⟨p % 131072, Nat.mod_lt _ (by decide)⟩ l

/-! ## Where the views lie -/

/-- The eight rows of list position `j` in slot `o`. -/
abbrev rowV (o j : ℕ) (ho : o < 2) (hj : j < 2048) : Memref sig .tc .vmem S8x128 .f32 := rowAt rowsM ![o, 8 * j, 0] (rows_inb ho hj)

theorem rowV_emb (o j : ℕ) (ho : o < 2) (hj : j < 2048) (y : S8x128.Idx) :
    (rowV o j ho hj).view.emb y = (rowIx o (8 * j + (y 0).val) ho (by have : (y 0).val < 8 := (y 0).isLt; omega) (y 1) : S2x16384x128.Idx) := by
  have hy : y = ix2 (y 0) (y 1) := by funext a; fin_cases a <;> rfl
  have h1 : (rowV o j ho hj).view.emb y
      = (Rect.unit (s := S2x16384x128) ![o, 8 * j, 0] S1x8x128.size (rows_inb ho hj)).emb (Shape.reshapeEquiv squeezes_S1x8x128_S8x128.numel_eq y) := rfl
  have h2 : Shape.reshapeEquiv squeezes_S1x8x128_S8x128.numel_eq y = ix3 (⟨0, Nat.one_pos⟩ : Fin 1) (y 0) (y 1) := by
    conv_lhs => rw [hy]
    exact reshapeEquiv_ix2_1ab _ _ _
  rw [h1, h2]
  funext a
  apply Fin.ext
  fin_cases a
  · show o + 1 * 0 = o
    omega
  · show 8 * j + 1 * (y 0).val = 8 * j + (y 0).val
    omega
  · show 0 + 1 * (y 1).val = (y 1).val
    omega

theorem tabV_emb (v : BitVec 32) (h : ∀ a, (![v.toNat, 0] : Fin 2 → ℕ) a + S8x128.size a ≤ S131072x128.size a) (y : S8x128.Idx) :
    (tabAt tabM v h).view.emb y = (tabIx (v.toNat + (y 0).val) (y 1) : S131072x128.Idx) := by
  have hv : v.toNat + 8 ≤ 131072 := h 0
  have hy : (y 0).val < 8 := (y 0).isLt
  funext a
  apply Fin.ext
  fin_cases a
  · show v.toNat + 1 * (y 0).val = (v.toNat + (y 0).val) % 131072
    rw [Nat.mod_eq_of_lt (by omega)]; omega
  · show 0 + 1 * (y 1).val = (y 1).val
    omega

/-- The elements of list position `j`'s rows in slot `o`. -/
abbrev rowS (o : ℕ) (ho : o < 2) (j : Fin 2048) : Finset S2x16384x128.Idx := (rowV o j.val ho j.isLt).view.set

theorem mem_rowV (o j : ℕ) (ho : o < 2) (hj : j < 2048) (x : S2x16384x128.Idx) :
    x ∈ rowS o ho ⟨j, hj⟩ ↔ (x 0).val = o ∧ (x 1).val / 8 = j := by
  constructor
  · intro h
    obtain ⟨y, -, hy⟩ := Finset.mem_map.mp h
    rw [rowV_emb] at hy
    subst hy
    have : (y 0).val < 8 := (y 0).isLt
    refine ⟨rfl, ?_⟩
    show (8 * j + (y 0).val) / 8 = j
    omega
  · rintro ⟨h0, h1⟩
    refine Finset.mem_map.mpr ⟨ix2 (⟨(x 1).val % 8, Nat.mod_lt _ (by decide)⟩ : Fin 8) (x 2), Finset.mem_univ _, ?_⟩
    rw [rowV_emb]
    funext a
    apply Fin.ext
    fin_cases a
    · exact h0.symm
    · show 8 * j + (x 1).val % 8 = (x 1).val
      omega
    · rfl

/-! ## What the copies bring -/

/-- The contents of the rows buffer once the rows of the words `w` have landed (in whichever slot). -/
def gatheredBuf (w : Fin 2048 → BitVec 32) (T : S131072x128.Idx → F .f32) : S2x16384x128.Idx → F .f32 := fun x =>
  T (tabIx ((w ⟨(x 1).val / 8, Nat.div_lt_of_lt_mul (x 1).isLt⟩).toNat + (x 1).val % 8) (x 2))

/-- One landed copy holds its words' rows. -/
theorem landed (w : Fin 2048 → BitVec 32) (T : S131072x128.Idx → F .f32) (o j : ℕ) (ho : o < 2) (hj : j < 2048)
    (h : ∀ a, (![(w ⟨j, hj⟩).toNat, 0] : Fin 2 → ℕ) a + S8x128.size a ≤ S131072x128.size a) (fd : S2x16384x128.Idx → F .f32)
    (x : S2x16384x128.Idx) (hx : x ∈ rowS o ho ⟨j, hj⟩) :
    ((rowV o j ho hj).view.write (Elt F) fd (ReadAs.same.apply ((tabAt tabM (w ⟨j, hj⟩) h).view.read (Elt F) T)) Finset.univ : S2x16384x128.Idx → F .f32) x
      = gatheredBuf w T x := by
  obtain ⟨y, -, rfl⟩ := Finset.mem_map.mp hx
  have hy : (y 0).val < 8 := (y 0).isLt
  have e1 := View.write_emb_of_mem (Val := Elt F) (v := (rowV o j ho hj).view) fd (ReadAs.same.apply ((tabAt tabM (w ⟨j, hj⟩) h).view.read (Elt F) T)) (Finset.mem_univ y)
  refine e1.trans ?_
  show T ((tabAt tabM (w ⟨j, hj⟩) h).view.emb y) = _
  rw [tabV_emb, rowV_emb]
  unfold gatheredBuf
  have e2 : (⟨(8 * j + (y 0).val) / 8, by omega⟩ : Fin 2048) = ⟨j, hj⟩ := Fin.ext (by show (8 * j + (y 0).val) / 8 = j; omega)
  have e3 : (8 * j + (y 0).val) % 8 = (y 0).val := by omega
  show T (tabIx ((w ⟨j, hj⟩).toNat + (y 0).val) (y 1)) = T (tabIx ((w ⟨(8 * j + (y 0).val) / 8, _⟩).toNat + (8 * j + (y 0).val) % 8) (y 1))
  rw [e2, e3]

/-! ## The words an expert's list holds -/

/-- Every word of the list names eight rows of the table, from a multiple of eight on. -/
def WordsOK (w : Fin 2048 → BitVec 32) : Prop := ∀ j, 8 ∣ (w j).toNat ∧ (w j).toNat ≤ 131064

theorem WordsOK.inb {w : Fin 2048 → BitVec 32} (hw : WordsOK w) (j : Fin 2048) :
    ∀ a, (![(w j).toNat, 0] : Fin 2 → ℕ) a + S8x128.size a ≤ S131072x128.size a := by
  have := (hw j).2
  intro a; fin_cases a
  · show (w j).toNat + 8 ≤ 131072
    omega
  · exact Nat.le_refl 128

theorem WordsOK.chk {w : Fin 2048 → BitVec 32} (hw : WordsOK w) (j : Fin 2048) (g : BitVec 1) : Chk g (w j) :=
  ⟨fun _ => (hw j).1, fun _ => hw.inb j⟩

/-! ## A slot, row by row -/

/-- The elements of slot `o`. -/
def slotS (o : ℕ) : Finset S2x16384x128.Idx := Finset.univ.filter fun x => (x 0).val = o

theorem slotS_eq (o : ℕ) (ho : o < 2) : slotS o = Finset.univ.biUnion (rowS o ho) := by
  ext x
  simp only [slotS, Finset.mem_filter, Finset.mem_univ, true_and, Finset.mem_biUnion]
  constructor
  · intro h
    have hx : (x 1).val < 16384 := (x 1).isLt
    exact ⟨⟨(x 1).val / 8, by omega⟩, (mem_rowV o ((x 1).val / 8) ho (by omega) x).mpr ⟨h, rfl⟩⟩
  · rintro ⟨j, hj⟩
    exact ((mem_rowV o _ ho _ x).mp hj).1

theorem rowS_disjoint (o : ℕ) (ho : o < 2) : ∀ j ∈ (Finset.univ : Finset (Fin 2048)), ∀ j' ∈ (Finset.univ : Finset (Fin 2048)), j ≠ j' → Disjoint (rowS o ho j) (rowS o ho j') := by
  intro j _ j' _ hne
  rw [Finset.disjoint_left]
  intro x hx hx'
  exact hne (Fin.ext (((mem_rowV o _ ho _ x).mp hx).2.symm.trans ((mem_rowV o _ ho _ x).mp hx').2))

variable (c : Dev nD)

/-- The elements `S` of the rows buffer, at `f`. -/
abbrev rowsPt (S : Finset S2x16384x128.Idx) (f : S2x16384x128.Idx → F .f32) : sProp 𝕄 :=
  (rowsM.view.loc (c : Thread nD τ)) ↦[(S : Finset (Idx (rowsM.view.loc (c : Thread nD τ))))]{fullShare} (f : Buf (Elt F) (rowsM.view.loc (c : Thread nD τ)))

/-- The elements `S` of the table, at share `q`. -/
abbrev tabPt (S : Finset S131072x128.Idx) (q : PosShare TreeShare) (T : S131072x128.Idx → F .f32) : sProp 𝕄 :=
  (tabM.view.loc (c : Thread nD τ)) ↦[(S : Finset (Idx (tabM.view.loc (c : Thread nD τ))))]{q} (T : Buf (Elt F) (tabM.view.loc (c : Thread nD τ)))

theorem slot_rows (o : ℕ) (ho : o < 2) (f : S2x16384x128.Idx → F .f32) :
    rowsPt c (slotS o) f = bigSep Finset.univ fun j : Fin 2048 => rowsPt c (rowS o ho j) f := by
  have h : rowsPt c (Finset.univ.biUnion (rowS o ho)) f = _ := pointsTo_biUnion (Val := Elt F) (ℓ := rowsM.view.loc (c : Thread nD τ)) (q := fullShare) (f := f) Finset.univ (rowS o ho) (rowS_disjoint o ho)
  exact (congrArg (fun S => rowsPt c S f) (slotS_eq o ho)).trans h

/-! ## The run of copies, unfolded -/

theorem copies_zero {g : BitVec 1} (hg : g = 1#1) (lst : Memref sig .tc .smem S1x1x2048 .i32) (i : grid0.Coords) (m : ℕ) (hm : m < 2) (r : ℕ) (h : r + 0 ≤ 256) :
    copies (F := F) g hg lst tabM rowsM semsM i m hm 0 r h = pure ⟨⟩ := rfl

theorem copies_succ {g : BitVec 1} (hg : g = 1#1) (lst : Memref sig .tc .smem S1x1x2048 .i32) (i : grid0.Coords) (m : ℕ) (hm : m < 2) (n r : ℕ) (h : r + (n + 1) ≤ 256) :
    copies (F := F) g hg lst tabM rowsM semsM i m hm (n + 1) r h
      = copyOne g hg lst tabM rowsM semsM ![0, 0, (Scalar.indexCast (posW i m r)).toNat] (list_inb i hm (by omega)) ![(otherW i).toNat] (sem_inb (otherW_lt i))
          ![(otherW i).toNat, (Scalar.muli (posW i m r) 8#32).toNat, 0] (row_inb i hm (by omega))
        >>= fun _ => copies g hg lst tabM rowsM semsM i m hm n (r + 1) (by omega) := rfl

/-! ## The batch of an expert's copies -/

section BatchOf

variable (o : ℕ) (ho : o < 2) (w : Fin 2048 → BitVec 32) (hw : WordsOK w) (T : S131072x128.Idx → F .f32)

/-- The table rows of word `j`. -/
abbrev tabS (j : Fin 2048) : Finset S131072x128.Idx := (tabAt tabM (w j) (hw.inb j)).view.set

/-- What copy `j` hands over when it has landed: its rows of the slot, holding the table's, and the share of the table it read. -/
def landing (j : Fin 2048) : sProp 𝕄 :=
  iprop(rowsPt c (rowS o ho j) (gatheredBuf w T) ∗ tabPt c (tabS w hw j) (Transfers.shareTok fullShare 2048 j) T)

instance landing_storable (j : Fin 2048) : Storable (upEmb : UEmb _ 𝕄) (landing c o ho w hw T j) := by
  unfold landing; infer_instance

/-- What is held for copy `j` while `k` have been started: before, its rows of the slot and its share of the table; after, the
share's other elements. -/
def cell (k : ℕ) (j : Fin 2048) : sProp 𝕄 :=
  if j.val < k then tabPt c (Finset.univ \ tabS w hw j) (Transfers.shareTok fullShare 2048 j) T
  else iprop(tabPt c Finset.univ (Transfers.shareTok fullShare 2048 j) T ∗ ∃ f, rowsPt c (rowS o ho j) f)

/-- The slot's semaphore. -/
abbrev slotSem : DmaSem sig := semAt semsM ![o] (sem_inb ho)

/-- What one copy counts. -/
abbrev rowCredit : ℕ := RefSig.tileCredit S8x128 .f32

/-- The slot's batch with `k` of the expert's copies started and none waited for. -/
def Mid (k : ℕ) : sProp 𝕄 :=
  iprop(Transfers.Batch (countersEmb (U := Pipeline.UD sig nD τ)) (c : Thread nD τ) (SemLoc.dma (slotSem o ho)) () rowCredit (landing c o ho w hw T) k 0
    ∗ bigSep Finset.univ (cell c o ho w hw T k) ∗ tabPt c Finset.univ (Transfers.shareDrop fullShare 2048) T)

/-- Taking copy `k`'s cell out, and putting it back started. -/
theorem cells_step (k : ℕ) (hk : k < 2048) :
    bigSep Finset.univ (cell c o ho w hw T k)
      ⊢ iprop((tabPt c Finset.univ (Transfers.shareTok fullShare 2048 ⟨k, hk⟩) T ∗ ∃ f, rowsPt c (rowS o ho ⟨k, hk⟩) f)
        ∗ (tabPt c (Finset.univ \ tabS w hw ⟨k, hk⟩) (Transfers.shareTok fullShare 2048 ⟨k, hk⟩) T -∗ bigSep Finset.univ (cell c o ho w hw T (k + 1)))) := by
  have h1 : cell c o ho w hw T k ⟨k, hk⟩ = iprop(tabPt c Finset.univ (Transfers.shareTok fullShare 2048 ⟨k, hk⟩) T ∗ ∃ f, rowsPt c (rowS o ho ⟨k, hk⟩) f) := by
    unfold cell; exact if_neg (Nat.lt_irrefl k)
  have h2 : cell c o ho w hw T (k + 1) ⟨k, hk⟩ = tabPt c (Finset.univ \ tabS w hw ⟨k, hk⟩) (Transfers.shareTok fullShare 2048 ⟨k, hk⟩) T := by
    unfold cell; exact if_pos (Nat.lt_succ_self k)
  have h3 : bigSep (Finset.univ.erase (⟨k, hk⟩ : Fin 2048)) (cell c o ho w hw T k) = bigSep (Finset.univ.erase (⟨k, hk⟩ : Fin 2048)) (cell c o ho w hw T (k + 1)) := by
    refine bigSep_congr fun j hj => ?_
    have hne : j.val ≠ k := fun e => (Finset.mem_erase.mp hj).1 (Fin.ext e)
    unfold cell
    by_cases h : j.val < k
    · rw [if_pos h, if_pos (by omega)]
    · rw [if_neg h, if_neg (by omega)]
  rw [bigSep_erase (Finset.mem_univ (⟨k, hk⟩ : Fin 2048)), bigSep_erase (Φ := cell c o ho w hw T (k + 1)) (Finset.mem_univ (⟨k, hk⟩ : Fin 2048)), h1, h2, h3]
  show iprop((tabPt c Finset.univ (Transfers.shareTok fullShare 2048 ⟨k, hk⟩) T ∗ ∃ f, rowsPt c (rowS o ho ⟨k, hk⟩) f)
      ∗ bigSep (Finset.univ.erase (⟨k, hk⟩ : Fin 2048)) (cell c o ho w hw T (k + 1)))
    ⊢ iprop((tabPt c Finset.univ (Transfers.shareTok fullShare 2048 ⟨k, hk⟩) T ∗ ∃ f, rowsPt c (rowS o ho ⟨k, hk⟩) f)
        ∗ (tabPt c (Finset.univ \ tabS w hw ⟨k, hk⟩) (Transfers.shareTok fullShare 2048 ⟨k, hk⟩) T
          -∗ iprop(tabPt c (Finset.univ \ tabS w hw ⟨k, hk⟩) (Transfers.shareTok fullShare 2048 ⟨k, hk⟩) T ∗ bigSep (Finset.univ.erase (⟨k, hk⟩ : Fin 2048)) (cell c o ho w hw T (k + 1)))))
  iintro ⟨H1, H2⟩
  isplitl [H1]
  · iexact H1
  iintro H3
  isplitl [H3]
  · iexact H3
  iexact H2

/-- A slot in hand, its semaphore at zero and the table: the batch with nothing started. -/
theorem mid_start (f : S2x16384x128.Idx → F .f32) {E : Set ℕ} :
    iprop(rowsPt c (slotS o) f ∗ semVal ((c : Thread nD τ), SemLoc.dma (slotSem o ho)) 0 ∗ tabPt c Finset.univ fullShare T)
      ⊢ |={E}=> Mid c o ho w hw T 0 := by
  have h0 : bigSep Finset.univ (cell c o ho w hw T 0)
      = iprop(bigSep Finset.univ (fun j : Fin 2048 => tabPt c Finset.univ (Transfers.shareTok fullShare 2048 j) T) ∗ bigSep Finset.univ (fun j : Fin 2048 => iprop(∃ f, rowsPt c (rowS o ho j) f))) := by
    refine (bigSep_congr fun j _ => ?_).trans (bigSep_sep _ _ _)
    unfold cell; exact if_neg (Nat.not_lt_zero _)
  have h1 : rowsPt c (slotS o) f ⊢ bigSep Finset.univ (fun j : Fin 2048 => iprop(∃ f, rowsPt c (rowS o ho j) f)) := by
    rw [slot_rows c o ho]
    refine bigSep_mono fun j _ => ?_
    show rowsPt c (rowS o ho j) f ⊢ iprop(∃ f, rowsPt c (rowS o ho j) f)
    iintro H
    iexists f
    iexact H
  unfold Mid
  rw [h0]
  iintro ⟨Hr, Hs, Ht⟩
  imod (Transfers.batch_alloc' (Lvl := ℕ) (countersEmb (U := Pipeline.UD sig nD τ)) (c : Thread nD τ) () rowCredit (landing c o ho w hw T) (E := E)) $$ Hs with HB
  ihave Ht' := (Transfers.pointsTo_toks_split fullShare 2048) $$ Ht
  icases Ht' with ⟨Hd, Htk⟩
  ihave Hr' := h1 $$ Hr
  imodintro
  isplitl [HB]; · iexact HB
  isplitl [Htk Hr']
  · isplitl [Htk]
    · iexact Htk
    · iexact Hr'
  · iexact Hd

/-- All landed: the slot holds the rows of the expert's words, and the table is whole again. -/
theorem mid_landed :
    iprop(bigSep Finset.univ (landing c o ho w hw T) ∗ bigSep Finset.univ (cell c o ho w hw T 2048) ∗ tabPt c Finset.univ (Transfers.shareDrop fullShare 2048) T)
      ⊢ iprop(rowsPt c (slotS o) (gatheredBuf w T) ∗ tabPt c Finset.univ fullShare T) := by
  have h0 : bigSep Finset.univ (landing c o ho w hw T)
      = iprop(bigSep Finset.univ (fun j : Fin 2048 => rowsPt c (rowS o ho j) (gatheredBuf w T)) ∗ bigSep Finset.univ (fun j : Fin 2048 => tabPt c (tabS w hw j) (Transfers.shareTok fullShare 2048 j) T)) := by
    exact (bigSep_congr fun j _ => rfl).trans (bigSep_sep _ _ _)
  have h1 : bigSep Finset.univ (cell c o ho w hw T 2048)
      = bigSep Finset.univ (fun j : Fin 2048 => tabPt c (Finset.univ \ tabS w hw j) (Transfers.shareTok fullShare 2048 j) T) :=
    bigSep_congr fun j _ => by unfold cell; exact if_pos j.isLt
  have h2 : iprop(bigSep Finset.univ (fun j : Fin 2048 => tabPt c (tabS w hw j) (Transfers.shareTok fullShare 2048 j) T)
        ∗ bigSep Finset.univ (fun j : Fin 2048 => tabPt c (Finset.univ \ tabS w hw j) (Transfers.shareTok fullShare 2048 j) T))
      ⊢ bigSep Finset.univ (fun j : Fin 2048 => tabPt c Finset.univ (Transfers.shareTok fullShare 2048 j) T) := by
    exact (Entails.of_eq (bigSep_sep _ _ _).symm).trans (bigSep_mono fun j _ => (pointsTo_split_subset (Finset.subset_univ _)).2)
  rw [h0, h1, slot_rows c o ho]
  iintro ⟨⟨Hr, Ht⟩, Hc, Hd⟩
  isplitl [Hr]; · iexact Hr
  ihave H := h2 $$ [Ht Hc]
  · isplitl [Ht]
    · iexact Ht
    · iexact Hc
  iapply (Transfers.pointsTo_toks_join fullShare 2048)
  isplitl [Hd]
  · iexact Hd
  · iexact H

/-! ## The steps -/

variable {defs : Defs nD τ sig (Elt F) Λ₀}

/-- Reading one word of a list. -/
theorem wp_listWord {lst : Memref sig .tc .smem S1x1x2048 .i32} {q : PosShare TreeShare} {X : S1x1x2048.Idx → Elt F .i32} (r : Rect S1x1x2048) (h1 : r.shape.numel = 1)
    {Q : Elt F .i32 → sProp 𝕄} :
    owns (c : Thread nD τ) lst q X
      ⊢ iprop((owns (c : Thread nD τ) lst q X -∗ Q (X (r.emb (Shape.Idx.first (h1.symm ▸ Nat.one_pos)))))
        -∗ wp frame (wpE defs Variants.none (c : Thread nD τ) none) Set.univ (smemLoad lst r h1 rfl) Q) := by
  unfold owns
  iintro ⟨%f, %hf, H⟩ HQ
  unfold smemLoad
  iapply (wp_smemLoadElt (defs := defs) Variants.none (c : Thread nD τ) none Set.univ (m := lst) (r := r) (k := .ret) (q := q) (f := f)
    (S := (show Finset (Idx ((lst.access r).loc (c : Thread nD τ))) from lst.view.set)) (View.set_slice_subset lst.view r)) $$ H
  iintro H
  iapply (le_wp_ret (M := 𝕄))
  have hv : (lst.access r).read (Elt F) f (Shape.Idx.first (h1.symm ▸ Nat.one_pos)) = X (r.emb (Shape.Idx.first (h1.symm ▸ Nat.one_pos))) := by
    rw [← hf]; rfl
  rw [hv]
  iapply HQ
  iexists f
  isplitr
  · ipureintro; exact hf
  · iexact H

/-- The list holds the words `w`. -/
def Lists (w : Fin 2048 → BitVec 32) (X : S1x1x2048.Idx → Elt F .i32) : Prop := ∀ j : Fin 2048, X (ix3 (0 : Fin 1) (0 : Fin 1) j) = w j

theorem wordIx (k : ℕ) (hk : k < 2048) (hlo : ∀ a, (![0, 0, k] : Fin 3 → ℕ) a + S1x1x1.size a ≤ S1x1x2048.size a)
    (h1 : 0 < (Rect.unit (s := S1x1x2048) ![0, 0, k] S1x1x1.size hlo).shape.numel) :
    (Rect.unit (s := S1x1x2048) ![0, 0, k] S1x1x1.size hlo).emb (Shape.Idx.first h1) = ix3 (0 : Fin 1) (0 : Fin 1) ⟨k, hk⟩ := by
  funext a; apply Fin.ext; fin_cases a
  · rfl
  · rfl
  · show k + 1 * 0 = k
    omega

/-- One copy of the batch: from `k` started to `k + 1`. -/
theorem wp_copyOne {g : BitVec 1} (hg : g = 1#1) {lst : Memref sig .tc .smem S1x1x2048 .i32} {q : PosShare TreeShare} {X : S1x1x2048.Idx → Elt F .i32}
    (hX : Lists (F := F) w X) (k : ℕ) (hk : k < 2048) {lo : Fin 3 → ℕ} (hlo : ∀ a, lo a + S1x1x1.size a ≤ S1x1x2048.size a)
    {so : Fin 1 → ℕ} (hso : ∀ a, so a + S1.size a ≤ S2.size a) {ro : Fin 3 → ℕ} (hro : ∀ a, ro a + S1x8x128.size a ≤ S2x16384x128.size a)
    (e1 : lo = ![0, 0, k]) (e2 : so = ![o]) (e3 : ro = ![o, 8 * k, 0]) {Q : PUnit → sProp 𝕄} :
    iprop(owns (c : Thread nD τ) lst q X ∗ Mid c o ho w hw T k)
      ⊢ iprop((iprop(owns (c : Thread nD τ) lst q X ∗ Mid c o ho w hw T (k + 1)) -∗ Q ⟨⟩)
        -∗ wp frame (wpE defs Variants.none (c : Thread nD τ) none) Set.univ (copyOne (F := F) g hg lst tabM rowsM semsM lo hlo so hso ro hro) Q) := by
  subst e1 e2 e3
  iintro ⟨HL, HM⟩ HQ
  unfold copyOne
  rw [wp_bind]
  iapply (wp_listWord c (Rect.unit (s := S1x1x2048) ![0, 0, k] S1x1x1.size hlo) numel1_S1x1x1) $$ HL
  iintro HL
  rw [wordIx k hk hlo, hX ⟨k, hk⟩]
  iapply (wp_assume (defs := defs) Variants.none (c : Thread nD τ) none Set.univ (hw.chk ⟨k, hk⟩ g))
  unfold Mid
  icases HM with ⟨HB, HC, Hd⟩
  ihave HC' := (cells_step c o ho w hw T k hk) $$ HC
  icases HC' with ⟨⟨Ht, %fd, Hr⟩, HC⟩
  ihave Ht' := (pointsTo_split_subset (Finset.subset_univ (tabS w hw ⟨k, hk⟩))).1 $$ Ht
  icases Ht' with ⟨Hs, Hrest⟩
  have hD : iprop(((rowV o k ho hk).view.loc (c : Thread nD τ) ↦[(rowV o k ho hk).view.set]{fullShare} ((rowV o k ho hk).view.write (Elt F) fd (ReadAs.same.apply ((tabAt tabM (w ⟨k, hk⟩) (hw.inb ⟨k, hk⟩)).view.read (Elt F) T)) Finset.univ))
      ∗ ((tabAt tabM (w ⟨k, hk⟩) (hw.inb ⟨k, hk⟩)).view.loc (c : Thread nD τ) ↦[(tabAt tabM (w ⟨k, hk⟩) (hw.inb ⟨k, hk⟩)).view.set]{Transfers.shareTok fullShare 2048 ⟨k, hk⟩} T))
      ⊢ landing c o ho w hw T ⟨k, hk⟩ := by
    unfold landing
    exact sep_mono (Entails.of_eq (pointsTo_congr fun x hx => landed w T o k ho hk (hw.inb ⟨k, hk⟩) fd x hx)) .rfl
  iapply (Transfers.wp_dmaBatch (countersEmb (U := Pipeline.UD sig nD τ)) Variants.none (c : Thread nD τ) none () rowCredit rfl (Finset.Subset.refl _) hk (Nat.zero_le _) hD) $$ [Hs Hr HB]
  · isplitl [Hs]; · iexact Hs
    isplitl [Hr]; · iexact Hr
    iexact HB
  iintro HB
  iapply (le_wp_ret (M := 𝕄))
  iapply HQ
  isplitl [HL]; · iexact HL
  isplitl [HB]; · iexact HB
  isplitl [HC Hrest]
  · iapply HC; iexact Hrest
  iexact Hd

/-- A run of copies of a point's chunk. -/
theorem wp_copies {g : BitVec 1} (hg : g = 1#1) {lst : Memref sig .tc .smem S1x1x2048 .i32} {q : PosShare TreeShare} {X : S1x1x2048.Idx → Elt F .i32}
    (hX : Lists (F := F) w X) (i : grid0.Coords) (m : ℕ) (hm : m < 2) (hi : (otherW i).toNat = o) {Q : PUnit → sProp 𝕄} :
    ∀ (n r : ℕ) (h : r + n ≤ 256),
    iprop(owns (c : Thread nD τ) lst q X ∗ Mid c o ho w hw T (512 * (i 1).val + 256 * m + r))
      ⊢ iprop((iprop(owns (c : Thread nD τ) lst q X ∗ Mid c o ho w hw T (512 * (i 1).val + 256 * m + r + n)) -∗ Q ⟨⟩)
        -∗ wp frame (wpE defs Variants.none (c : Thread nD τ) none) Set.univ (copies (F := F) g hg lst tabM rowsM semsM i m hm n r h) Q) := by
  intro n
  induction n with
  | zero =>
    intro r h
    iintro H HQ
    rw [copies_zero]
    iapply (le_wp_ret (M := 𝕄))
    iapply HQ
    iexact H
  | succ n ih =>
    intro r h
    have hf := coord1_lt i
    iintro H HQ
    rw [copies_succ, wp_bind]
    have e1 : (![0, 0, (Scalar.indexCast (posW i m r)).toNat] : Fin 3 → ℕ) = ![0, 0, 512 * (i 1).val + 256 * m + r] :=
      congrArg (fun k => ![0, 0, k]) (posW_toNat i hm (by omega))
    have e2 : (![(otherW i).toNat] : Fin 1 → ℕ) = ![o] := congrArg (fun k => ![k]) hi
    have e3 : (![(otherW i).toNat, (Scalar.muli (posW i m r) 8#32).toNat, 0] : Fin 3 → ℕ) = ![o, 8 * (512 * (i 1).val + 256 * m + r), 0] := by
      rw [hi, rowW_toNat i hm (by omega)]
    have hone := wp_copyOne (defs := defs) (q := q) c o ho w hw T hg hX (512 * (i 1).val + 256 * m + r) (by omega) (list_inb i hm (by omega)) (sem_inb (otherW_lt i)) (row_inb i hm (by omega)) e1 e2 e3
      (lst := lst) (Q := fun _ => wp frame (wpE defs Variants.none (c : Thread nD τ) none) Set.univ (copies (F := F) g hg lst tabM rowsM semsM i m hm n (r + 1) (by omega)) Q)
    iapply hone $$ H
    iintro H
    rw [show 512 * (i 1).val + 256 * m + r + (n + 1) = 512 * (i 1).val + 256 * m + (r + 1) + n by omega]
    have hrest := ih (r + 1) (by omega)
    iapply hrest $$ [H]
    · iexact H
    iintro H
    iapply HQ
    iexact H

theorem rowCredit_pos : 0 < rowCredit := by decide

theorem slot_credit : RefSig.tileCredit S16384x128 .f32 = rowCredit * 2048 := by decide

/-- Waiting for the whole slot: its rows are the expert's, the table is whole and the semaphore at zero. -/
theorem wp_await (W : Waits sig Unit) {Q : PUnit → sProp 𝕄} :
    iprop(Mid c o ho w hw T 2048 ∗ owes (c : Thread nD τ) 0 W)
      ⊢ iprop((iprop(rowsPt c (slotS o) (gatheredBuf w T) ∗ tabPt c Finset.univ fullShare T ∗ semVal ((c : Thread nD τ), SemLoc.dma (slotSem o ho)) 0
            ∗ owes (c : Thread nD τ) 0 (insert (SemLoc.dma (slotSem o ho), ()) W)) -∗ Q ⟨⟩)
        -∗ wp frame (wpE defs Variants.none (c : Thread nD τ) none) Set.univ (await (F := F) tabM rowsM semsM o ho) Q) := by
  iintro ⟨HM, HW⟩ HQ
  unfold Mid await
  icases HM with ⟨HB, HC, Hd⟩
  iapply (Transfers.wp_waitBatchAll (countersEmb (U := Pipeline.UD sig nD τ)) Variants.none (c : Thread nD τ) none () (J := RefSig.tileCredit S16384x128 .f32) rfl rowCredit_pos ((Nat.zero_add _).trans slot_credit)) $$ [HB HW]
  · isplitl [HB]
    · iexact HB
    · iexact HW
  iintro ⟨HD, Hs, HW⟩
  iapply (le_wp_ret (M := 𝕄))
  ihave H := (mid_landed c o ho w hw T) $$ [HD HC Hd]
  · isplitl [HD]; · iexact HD
    isplitl [HC]; · iexact HC
    iexact Hd
  icases H with ⟨Hr, Ht⟩
  iapply HQ
  isplitl [Hr]; · iexact Hr
  isplitl [Ht]; · iexact Ht
  isplitl [Hs]; · iexact Hs
  iexact HW

end BatchOf

/-! ## The first expert's copies -/

theorem iv_toNat (t : ℕ) (ht : t < 2048) : (Scf.iv 0#32 1#32 t).toNat = t := by
  simp only [Scf.iv, BitVec.toNat_add, BitVec.toNat_mul, BitVec.toNat_ofNat]
  omega

theorem trips_eq : k0_t1_loop.trips = 2048 := by decide

theorem off1_eq (t : Fin k0_t1_loop.trips) : k0_off1 t = ![0, 0, t.val] := by
  have ht : t.val < 2048 := trips_eq ▸ t.isLt
  exact congrArg (fun k => ![0, 0, k]) (iv_toNat t.val ht)

theorem off2_eq (t : Fin k0_t1_loop.trips) : k0_off2 t = ![0, 8 * t.val, 0] := by
  have ht : t.val < 2048 := trips_eq ▸ t.isLt
  refine congrArg (fun k => ![0, k, 0]) ?_
  show (Scalar.muli (Scf.iv 0#32 1#32 t.val) 8#32).toNat = 8 * t.val
  simp only [Scalar.muli, IntOp.muli, BitVec.toNat_mul, BitVec.toNat_ofNat, iv_toNat t.val ht]
  omega

/-- The copies of the whole list into slot 0. -/
theorem wp_firstCopies (w : Fin 2048 → BitVec 32) (hw : WordsOK w) (T : S131072x128.Idx → F .f32) {defs : Defs nD τ sig (Elt F) Λ₀}
    {lst : Memref sig .tc .smem S1x1x2048 .i32} {q : PosShare TreeShare} {X : S1x1x2048.Idx → Elt F .i32}
    (hX : Lists (F := F) w X) (i : grid0.Coords) (hg : k0_cond1 i = 1#1) {Q : PUnit → sProp 𝕄} :
    iprop(owns (c : Thread nD τ) lst q X ∗ Mid c 0 (by decide) w hw T 0)
      ⊢ iprop((iprop(owns (c : Thread nD τ) lst q X ∗ Mid c 0 (by decide) w hw T 2048) -∗ Q ⟨⟩)
        -∗ wp frame (wpE defs Variants.none (c : Thread nD τ) none) Set.univ (firstCopies (F := F) i hg lst tabM rowsM semsM) Q) := by
  iintro H HQ
  unfold firstCopies
  have hbody : ∀ (k : Fin (Scf.trips k0_t1_loop.lb k0_t1_loop.ub k0_t1_loop.st)) (acc : PUnit),
      iprop(owns (c : Thread nD τ) lst q X ∗ Mid c 0 (by decide) w hw T k.val)
        ⊢ wp frame (wpE defs Variants.none (c : Thread nD τ) none) Set.univ
            (copyOne (F := F) (k0_cond1 i) hg lst tabM rowsM semsM (k0_off1 k) (k0_off1_inb i k hg) ![0] inb_S2_S1_0 (k0_off2 k) (k0_off2_inb i k hg))
            (fun _ => iprop(owns (c : Thread nD τ) lst q X ∗ Mid c 0 (by decide) w hw T (k.val + 1))) := by
    intro k _
    iintro H
    iapply (wp_copyOne c 0 _ w hw T hg hX k.val (trips_eq ▸ k.isLt) (k0_off1_inb i k hg) inb_S2_S1_0 (k0_off2_inb i k hg) (off1_eq k) rfl (off2_eq k)) $$ H
    iintro H
    iexact H
  have hloop := Scf.wp_for frame (wpE defs Variants.none (c : Thread nD τ) none) Set.univ _ _ _ (k0_t1_ok i hg) ⟨⟩ _
    (fun k _ => iprop(owns (c : Thread nD τ) lst q X ∗ Mid c 0 (by decide) w hw T k)) hbody (Q := Q)
  iapply hloop
  isplitl [H]
  · iexact H
  iintro %_ H
  iapply HQ
  rw [show Scf.trips k0_t1_loop.lb k0_t1_loop.ub k0_t1_loop.st = 2048 from trips_eq]
  iexact H

end Cert.KernelIdeal.Experts

end
-- ==== Proof.Body.lean ====
/-
  The grid points: what each does to the windows, the scratches and the batch of copies under way.
-/
module

public import proofs.«01_k».proof.Proof.Copies
public import Idealize.ShloMosaic.Lib.Writes

@[expose] public section

noncomputable section

namespace Cert.KernelIdeal.Experts

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Facts K0.R1.Facts₀ Shapes1.Facts₀ K0.R3.Facts₀ K0.R5.Facts₀

variable {F : FTy → Type} [FloatOps F] [Facts]

/-- The algebra of the proof: the pipeline's beside the transfers' counters. -/
local notation "𝕄" => MT nD τ sig Unit (Elt F) ℕ (Pipeline.UD sig nD τ) ℕ

variable (c : Dev nD) {defs : Defs nD τ sig (Elt F) Λ₀}

/-! ## Loads and stores of buffers held by their values -/

/-- A load of a buffer held by its values gives them at the elements read. -/
theorem wp_ownsLoad {cs : CoreSpace} {s : Shape} {e : EltTy} (m : Memref sig .tc cs s e) {q : PosShare TreeShare} {X : s.Idx → Elt F e} (r : LoadRect s) (hl : m.view.LoadsAt r)
    {Q : (r.shape.Idx → Elt F e) → sProp 𝕄} :
    owns (c : Thread nD τ) m q X
      ⊢ iprop((owns (c : Thread nD τ) m q X -∗ Q (fun y => X (r.idx y)))
        -∗ wp frame (wpE defs Variants.none (c : Thread nD τ) none) Set.univ (Prog.lift (.load m r hl)) Q) := by
  unfold owns
  iintro ⟨%f, %hf, H⟩ HQ
  subst hf
  iapply (wp_load (defs := defs) Variants.none (c : Thread nD τ) none Set.univ (m := m) (r := r) (hl := hl) (k := .ret) (q := q) (f := f)
    (S := (show Finset (Idx (m.view.loc (c : Thread nD τ))) from m.view.set)) (View.setOn_subset_set m.view r.set)) $$ H
  iintro H
  iapply (le_wp_ret (M := 𝕄))
  rw [show m.view.readAt (Elt F) r f = fun y => m.view.read (Elt F) f (r.idx y) from rfl]
  iapply HQ
  iexists f
  isplitr
  · ipureintro; rfl
  · iexact H

/-- A load of a whole buffer. -/
theorem wp_ownsLoadFull {cs : CoreSpace} {s : Shape} {e : EltTy} (m : Memref sig .tc cs s e) {q : PosShare TreeShare} {X : s.Idx → Elt F e} {off : Fin s.rank → ℕ}
    (inb : ∀ a, off a + s.size a ≤ s.size a) (hl : m.view.LoadsAt (Rect.unit off s.size inb).toLoadRect) {Q : (s.Idx → Elt F e) → sProp 𝕄} :
    owns (c : Thread nD τ) m q X
      ⊢ iprop((owns (c : Thread nD τ) m q X -∗ Q X)
        -∗ wp frame (wpE defs Variants.none (c : Thread nD τ) none) Set.univ (Prog.lift (.load m (Rect.unit off s.size inb).toLoadRect hl)) Q) := by
  iintro H HQ
  iapply (wp_ownsLoad c m (Rect.unit off s.size inb).toLoadRect hl) $$ H
  have hx : (fun y : s.Idx => X ((Rect.unit off s.size inb).toLoadRect.idx y)) = X :=
    funext fun y => congrArg X (Rect.emb_unit_full inb y)
  rw [show (fun y => X ((Rect.unit off s.size inb).toLoadRect.idx y)) = X from hx]
  iexact HQ

/-- A store into a buffer held by its values writes the window. -/
theorem wp_ownsStore {cs : CoreSpace} {s : Shape} {e : EltTy} (m : Memref sig .tc cs s e) {X : s.Idx → Elt F e} {off size : Fin s.rank → ℕ}
    (inb : ∀ a, off a + size a ≤ s.size a) (v : (Rect.unit off size inb).shape.Idx → Elt F e)
    (hx : (m.access (Rect.unit off size inb)).Stores Finset.univ) (hm : (Finset.univ : Finset (Rect.unit off size inb).shape.Idx) = Finset.univ ∨ ∀ a, (Rect.unit off size inb).stride a = 1)
    {Q : PUnit → sProp 𝕄} :
    owns (c : Thread nD τ) m fullShare X
      ⊢ iprop((owns (c : Thread nD τ) m fullShare (VecWindow.put X off size v) -∗ Q ⟨⟩)
        -∗ wp frame (wpE defs Variants.none (c : Thread nD τ) none) Set.univ (Prog.lift (.store m (Rect.unit off size inb) v Finset.univ hx hm)) Q) := by
  unfold owns
  iintro ⟨%f, %hf, H⟩ HQ
  subst hf
  iapply (wp_store (defs := defs) Variants.none (c : Thread nD τ) none Set.univ (m := m) (r := Rect.unit off size inb) (w := v) (Mk := Finset.univ) (hx := hx) (hm := hm) (k := .ret) (f := f)
    (S := (show Finset (Idx ((m.access (Rect.unit off size inb)).loc (c : Thread nD τ))) from m.view.set))
    ((View.setOn_subset_set _ _).trans (View.set_slice_subset m.view _))) $$ H
  iintro H
  iapply (le_wp_ret (M := 𝕄))
  iapply HQ
  iexists (m.view.writes (Elt F) f [⟨Rect.unit off size inb, v⟩])
  isplitr
  · ipureintro
    exact View.read_writes_cons_put m.view f inb v [] rfl
  · iexact H

/-! ## The output block: two chunks of rows -/

/-- The output block of two chunks. -/
def twoChunks (a b : S1x1024x1024.Idx → F .f32) : S1x2048x1024.Idx → F .f32 := fun y =>
  if h : (y 1).val < 1024 then a (ix3 (0 : Fin 1) ⟨(y 1).val, h⟩ (y 2)) else b (ix3 (0 : Fin 1) ⟨(y 1).val - 1024, by have : (y 1).val < 2048 := (y 1).isLt; omega⟩ (y 2))

theorem chunk_eta (z : S1x1024x1024.Idx) : (ix3 (0 : Fin 1) (z 1) (z 2) : S1x1024x1024.Idx) = z := by
  funext a; apply Fin.ext; fin_cases a
  · show (0 : ℕ) = (z 0).val
    have : (z 0).val < 1 := (z 0).isLt
    omega
  · rfl
  · rfl

theorem twoChunks_fst (a b : S1x1024x1024.Idx → F .f32) (z : S1x1024x1024.Idx) :
    twoChunks a b ((Rect.unit (s := S1x2048x1024) ![0, 0, 0] S1x1024x1024.size inb_S1x2048x1024_S1x1024x1024_0_0_0).toLoadRect.idx z) = a z := by
  have hz : (z 1).val < 1024 := (z 1).isLt
  have h1 : (((Rect.unit (s := S1x2048x1024) ![0, 0, 0] S1x1024x1024.size inb_S1x2048x1024_S1x1024x1024_0_0_0).toLoadRect.idx z) 1).val = (z 1).val := by
    show 0 + 1 * (z 1).val = (z 1).val
    omega
  have h2 : (((Rect.unit (s := S1x2048x1024) ![0, 0, 0] S1x1024x1024.size inb_S1x2048x1024_S1x1024x1024_0_0_0).toLoadRect.idx z) 2).val = (z 2).val := by
    show 0 + 1 * (z 2).val = (z 2).val
    omega
  unfold twoChunks
  rw [dif_pos (by rw [h1]; exact hz)]
  refine (congrArg a ?_).trans (congrArg a (chunk_eta z))
  funext a; apply Fin.ext; fin_cases a
  · rfl
  · exact h1
  · exact h2

theorem twoChunks_snd (a b : S1x1024x1024.Idx → F .f32) (z : S1x1024x1024.Idx) :
    twoChunks a b ((Rect.unit (s := S1x2048x1024) ![0, 1024, 0] S1x1024x1024.size inb_S1x2048x1024_S1x1024x1024_0_1024_0).toLoadRect.idx z) = b z := by
  have h1 : (((Rect.unit (s := S1x2048x1024) ![0, 1024, 0] S1x1024x1024.size inb_S1x2048x1024_S1x1024x1024_0_1024_0).toLoadRect.idx z) 1).val = 1024 + (z 1).val := by
    show 1024 + 1 * (z 1).val = 1024 + (z 1).val
    omega
  have h2 : (((Rect.unit (s := S1x2048x1024) ![0, 1024, 0] S1x1024x1024.size inb_S1x2048x1024_S1x1024x1024_0_1024_0).toLoadRect.idx z) 2).val = (z 2).val := by
    show 0 + 1 * (z 2).val = (z 2).val
    omega
  unfold twoChunks
  rw [dif_neg (by rw [h1]; omega)]
  refine (congrArg b ?_).trans (congrArg b (chunk_eta z))
  funext a; apply Fin.ext; fin_cases a
  · rfl
  · exact (congrArg (· - 1024) h1).trans (Nat.add_sub_cancel_left ..)
  · exact h2

theorem put_fst (a b v : S1x1024x1024.Idx → F .f32) :
    VecWindow.put (twoChunks a b) ![0, 0, 0] S1x1024x1024.size v = twoChunks v b := by
  funext y
  have h0 : (y 0).val < 1 := (y 0).isLt
  have h2 : (y 2).val < 1024 := (y 2).isLt
  unfold VecWindow.put twoChunks
  by_cases h : (y 1).val < 1024
  · rw [dif_pos h]
    have hall : ∀ a, (![0, 0, 0] : Fin 3 → ℕ) a ≤ (y a).val ∧ (y a).val < (![0, 0, 0] : Fin 3 → ℕ) a + S1x1024x1024.size a := by
      intro a; fin_cases a
      · exact ⟨Nat.zero_le _, by show (y 0).val < 0 + 1; omega⟩
      · exact ⟨Nat.zero_le _, by show (y 1).val < 0 + 1024; omega⟩
      · exact ⟨Nat.zero_le _, by show (y 2).val < 0 + 1024; omega⟩
    rw [dif_pos hall, dif_pos h]
    refine congrArg v ?_
    funext a; apply Fin.ext; fin_cases a
    · show (y 0).val - 0 = 0
      omega
    · rfl
    · rfl
  · rw [dif_neg h]
    have hall : ¬ ∀ a, (![0, 0, 0] : Fin 3 → ℕ) a ≤ (y a).val ∧ (y a).val < (![0, 0, 0] : Fin 3 → ℕ) a + S1x1024x1024.size a := fun hall => by
      have h1 : (y 1).val < 0 + 1024 := (hall 1).2
      omega
    rw [dif_neg hall, dif_neg h]

theorem put_snd (a b v : S1x1024x1024.Idx → F .f32) :
    VecWindow.put (twoChunks a b) ![0, 1024, 0] S1x1024x1024.size v = twoChunks a v := by
  funext y
  have h0 : (y 0).val < 1 := (y 0).isLt
  have h1 : (y 1).val < 2048 := (y 1).isLt
  have h2 : (y 2).val < 1024 := (y 2).isLt
  unfold VecWindow.put twoChunks
  by_cases h : (y 1).val < 1024
  · rw [dif_pos h]
    have hall : ¬ ∀ a, (![0, 1024, 0] : Fin 3 → ℕ) a ≤ (y a).val ∧ (y a).val < (![0, 1024, 0] : Fin 3 → ℕ) a + S1x1024x1024.size a := fun hall => by
      have h1 : 1024 ≤ (y 1).val := (hall 1).1
      omega
    rw [dif_neg hall, dif_pos h]
  · rw [dif_neg h]
    have hall : ∀ a, (![0, 1024, 0] : Fin 3 → ℕ) a ≤ (y a).val ∧ (y a).val < (![0, 1024, 0] : Fin 3 → ℕ) a + S1x1024x1024.size a := by
      intro a; fin_cases a
      · exact ⟨Nat.zero_le _, by show (y 0).val < 0 + 1; omega⟩
      · exact ⟨by show 1024 ≤ (y 1).val; omega, by show (y 1).val < 1024 + 1024; omega⟩
      · exact ⟨Nat.zero_le _, by show (y 2).val < 0 + 1024; omega⟩
    rw [dif_pos hall, dif_neg h]
    refine congrArg v ?_
    funext a; apply Fin.ext; fin_cases a
    · show (y 0).val - 0 = 0
      omega
    · rfl
    · rfl

/-- Any output block is two chunks. -/
theorem eq_twoChunks (Y : S1x2048x1024.Idx → F .f32) : ∃ a b, Y = twoChunks a b := by
  refine ⟨fun z => Y (ix3 (0 : Fin 1) ⟨(z 1).val, by have : (z 1).val < 1024 := (z 1).isLt; omega⟩ (z 2)), fun z => Y (ix3 (0 : Fin 1) ⟨1024 + (z 1).val, by have : (z 1).val < 1024 := (z 1).isLt; omega⟩ (z 2)), ?_⟩
  funext y
  have h0 : (y 0).val < 1 := (y 0).isLt
  unfold twoChunks
  by_cases h : (y 1).val < 1024
  · rw [dif_pos h]
    refine congrArg Y ?_
    funext a; apply Fin.ext; fin_cases a
    · show (y 0).val = 0
      omega
    · rfl
    · rfl
  · rw [dif_neg h]
    refine congrArg Y ?_
    funext a; apply Fin.ext; fin_cases a
    · show (y 0).val = 0
      omega
    · show (y 1).val = 1024 + ((y 1).val - 1024)
      omega
    · rfl

/-- Reading the first chunk. -/
theorem wp_loadY_fst {arg8 : Memref sig .tc .vmem S1x2048x1024 .f32} {a b : S1x1024x1024.Idx → F .f32} {Q : (S1x1024x1024.Idx → F .f32) → sProp 𝕄} :
    owns (c : Thread nD τ) arg8 fullShare (show S1x2048x1024.Idx → Elt F .f32 from twoChunks a b)
      ⊢ iprop((owns (c : Thread nD τ) arg8 fullShare (show S1x2048x1024.Idx → Elt F .f32 from twoChunks a b) -∗ Q a)
        -∗ wp frame (wpE defs Variants.none (c : Thread nD τ) none) Set.univ (loadY (F := F) arg8 ![0, 0, 0] inb_S1x2048x1024_S1x1024x1024_0_0_0) Q) := by
  iintro H HQ
  unfold loadY
  iapply (wp_ownsLoad c arg8 _ _) $$ H
  rw [show (fun y => (show S1x2048x1024.Idx → Elt F .f32 from twoChunks a b) ((Rect.unit (s := S1x2048x1024) ![0, 0, 0] S1x1024x1024.size inb_S1x2048x1024_S1x1024x1024_0_0_0).toLoadRect.idx y)) = a from
    funext fun y => twoChunks_fst a b y]
  iexact HQ

/-- Reading the second chunk. -/
theorem wp_loadY_snd {arg8 : Memref sig .tc .vmem S1x2048x1024 .f32} {a b : S1x1024x1024.Idx → F .f32} {Q : (S1x1024x1024.Idx → F .f32) → sProp 𝕄} :
    owns (c : Thread nD τ) arg8 fullShare (show S1x2048x1024.Idx → Elt F .f32 from twoChunks a b)
      ⊢ iprop((owns (c : Thread nD τ) arg8 fullShare (show S1x2048x1024.Idx → Elt F .f32 from twoChunks a b) -∗ Q b)
        -∗ wp frame (wpE defs Variants.none (c : Thread nD τ) none) Set.univ (loadY (F := F) arg8 ![0, 1024, 0] inb_S1x2048x1024_S1x1024x1024_0_1024_0) Q) := by
  iintro H HQ
  unfold loadY
  iapply (wp_ownsLoad c arg8 _ _) $$ H
  rw [show (fun y => (show S1x2048x1024.Idx → Elt F .f32 from twoChunks a b) ((Rect.unit (s := S1x2048x1024) ![0, 1024, 0] S1x1024x1024.size inb_S1x2048x1024_S1x1024x1024_0_1024_0).toLoadRect.idx y)) = b from
    funext fun y => twoChunks_snd a b y]
  iexact HQ

/-- Writing the first chunk. -/
theorem wp_storeY_fst {arg8 : Memref sig .tc .vmem S1x2048x1024 .f32} {a b : S1x1024x1024.Idx → F .f32} (v : FVec F S1x1024x1024 .f32) {Q : PUnit → sProp 𝕄} :
    owns (c : Thread nD τ) arg8 fullShare (show S1x2048x1024.Idx → Elt F .f32 from twoChunks a b)
      ⊢ iprop((owns (c : Thread nD τ) arg8 fullShare (show S1x2048x1024.Idx → Elt F .f32 from twoChunks v b) -∗ Q ⟨⟩)
        -∗ wp frame (wpE defs Variants.none (c : Thread nD τ) none) Set.univ (storeY (F := F) arg8 ![0, 0, 0] inb_S1x2048x1024_S1x1024x1024_0_0_0 v) Q) := by
  rw [← put_fst a b v]
  iintro H HQ
  unfold storeY
  iapply (wp_ownsStore c arg8 inb_S1x2048x1024_S1x1024x1024_0_0_0 v _ _) $$ H
  iexact HQ

/-- Writing the second chunk. -/
theorem wp_storeY_snd {arg8 : Memref sig .tc .vmem S1x2048x1024 .f32} {a b : S1x1024x1024.Idx → F .f32} (v : FVec F S1x1024x1024 .f32) {Q : PUnit → sProp 𝕄} :
    owns (c : Thread nD τ) arg8 fullShare (show S1x2048x1024.Idx → Elt F .f32 from twoChunks a b)
      ⊢ iprop((owns (c : Thread nD τ) arg8 fullShare (show S1x2048x1024.Idx → Elt F .f32 from twoChunks a v) -∗ Q ⟨⟩)
        -∗ wp frame (wpE defs Variants.none (c : Thread nD τ) none) Set.univ (storeY (F := F) arg8 ![0, 1024, 0] inb_S1x2048x1024_S1x1024x1024_0_1024_0 v) Q) := by
  rw [← put_snd a b v]
  iintro H HQ
  unfold storeY
  iapply (wp_ownsStore c arg8 inb_S1x2048x1024_S1x1024x1024_0_1024_0 v _ _) $$ H
  iexact HQ

/-! ## Collecting a chunk's rows from a slot -/

/-- Rows `b, b + 8, …` of a rows buffer whose slots hold the same. -/
def colOf (R : S2x16384x128.Idx → F .f32) (b : ℕ) : Vec F S1x1024x128 .f32 := fun y =>
  R (ix3 (0 : Fin 2) ⟨(b + 8 * (y 1).val) % 16384, Nat.mod_lt _ (by decide)⟩ (y 2))

/-- The chunk whose rows start at row `b` of the buffer. -/
def xOf (w : Fin 2048 → BitVec 32) (T : S131072x128.Idx → F .f32) (b : ℕ) : FVec F S1024x1024 .bf16 :=
  rowsOf (colOf (gatheredBuf w T) b) (colOf (gatheredBuf w T) (b + 1)) (colOf (gatheredBuf w T) (b + 2)) (colOf (gatheredBuf w T) (b + 3))
    (colOf (gatheredBuf w T) (b + 4)) (colOf (gatheredBuf w T) (b + 5)) (colOf (gatheredBuf w T) (b + 6)) (colOf (gatheredBuf w T) (b + 7))

variable (w : Fin 2048 → BitVec 32) (T : S131072x128.Idx → F .f32)

/-- Reading one column block of a slot of gathered rows. -/
theorem wp_loadCol (o : ℕ) (ho : o < 2) (b : ℕ) (hb : b < 8200) {Q : Vec F S1x1024x128 .f32 → sProp 𝕄} :
    rowsPt c (slotS o) (gatheredBuf w T)
      ⊢ iprop((rowsPt c (slotS o) (gatheredBuf w T) -∗ Q (colOf (gatheredBuf w T) b))
        -∗ wp frame (wpE defs Variants.none (c : Thread nD τ) none) Set.univ (loadCol (F := F) rowsM o ho b hb) Q) := by
  have hS : rowsM.view.setOn (⟨![o, b, 0], S1x1024x128.size, ![1, 8, 1], col_inb ho hb⟩ : LoadRect S2x16384x128).set ⊆ slotS o := by
    intro x hx
    obtain ⟨y, hy, rfl⟩ := Finset.mem_map.mp hx
    obtain ⟨j, hj, e⟩ := (LoadRect.mem_set _).mp hy 0
    have hj' : j < 1 := hj
    have e' : (y 0).val = o + 1 * j := e
    refine Finset.mem_filter.mpr ⟨Finset.mem_univ _, ?_⟩
    show (y 0).val = o
    omega
  have hv : rowsM.view.readAt (Elt F) (⟨![o, b, 0], S1x1024x128.size, ![1, 8, 1], col_inb ho hb⟩ : LoadRect S2x16384x128) (gatheredBuf w T) = colOf (gatheredBuf w T) b := by
    funext y
    have hy : (y 1).val < 1024 := (y 1).isLt
    have e1 : (b + 8 * (y 1).val) % 16384 = b + 8 * (y 1).val := Nat.mod_eq_of_lt (by omega)
    have e2 : ∀ (p q : Fin 16384) (l l' : Fin 128) (z : Fin 2), p = q → l = l' → gatheredBuf w T (ix3 ⟨o, ho⟩ p l) = gatheredBuf w T (ix3 z q l') := by
      intro p q l l' z h h'; subst h h'; rfl
    refine Eq.trans (congrArg (gatheredBuf w T) ?_) (e2 ⟨b + 8 * (y 1).val, by omega⟩ ⟨(b + 8 * (y 1).val) % 16384, Nat.mod_lt _ (by decide)⟩ (y 2) (y 2) 0 (Fin.ext e1.symm) rfl)
    funext a; apply Fin.ext; fin_cases a
    · have : (y 0).val < 1 := (y 0).isLt
      show o + 1 * (y 0).val = o
      omega
    · rfl
    · show 0 + 1 * (y 2).val = (y 2).val
      omega
  iintro H HQ
  unfold loadCol
  iapply (wp_load (defs := defs) Variants.none (c : Thread nD τ) none Set.univ (k := .ret) hS) $$ H
  iintro H
  iapply (le_wp_ret (M := 𝕄))
  rw [hv]
  iapply HQ
  iexact H

/-- Reading a chunk scratch. -/
theorem wp_loadX {x : Memref sig .tc .vmem S1024x1024 .bf16} {X : S1024x1024.Idx → Elt F .bf16} {Q : Vec F S1024x1024 .bf16 → sProp 𝕄} :
    owns (c : Thread nD τ) x fullShare X
      ⊢ iprop((owns (c : Thread nD τ) x fullShare X -∗ Q X)
        -∗ wp frame (wpE defs Variants.none (c : Thread nD τ) none) Set.univ (loadX (F := F) x) Q) :=
  wp_ownsLoadFull c x (off := ![0, 0]) inb_S1024x1024_S1024x1024_0_0 _

/-- Reading a weight block of the first two products. -/
theorem wp_loadIn {x : Memref sig .tc .vmem S1x1024x512 .f32} {q : PosShare TreeShare} {X : S1x1024x512.Idx → Elt F .f32} {Q : Vec F S1x1024x512 .f32 → sProp 𝕄} :
    owns (c : Thread nD τ) x q X
      ⊢ iprop((owns (c : Thread nD τ) x q X -∗ Q X)
        -∗ wp frame (wpE defs Variants.none (c : Thread nD τ) none) Set.univ (loadIn (F := F) x) Q) :=
  wp_ownsLoadFull c x (off := ![0, 0, 0]) inb_S1x1024x512_S1x1024x512_0_0_0 _

/-- Reading a weight block of the last product. -/
theorem wp_loadOut {x : Memref sig .tc .vmem S1x512x1024 .f32} {q : PosShare TreeShare} {X : S1x512x1024.Idx → Elt F .f32} {Q : Vec F S1x512x1024 .f32 → sProp 𝕄} :
    owns (c : Thread nD τ) x q X
      ⊢ iprop((owns (c : Thread nD τ) x q X -∗ Q X)
        -∗ wp frame (wpE defs Variants.none (c : Thread nD τ) none) Set.univ (loadOut (F := F) x) Q) :=
  wp_ownsLoadFull c x (off := ![0, 0, 0]) inb_S1x512x1024_S1x512x1024_0_0_0 _

/-- Writing a whole buffer leaves what was written. -/
theorem put_full {s : Shape} {e : EltTy} (X : s.Idx → Elt F e) (v : s.Idx → Elt F e) (off : Fin s.rank → ℕ) (h0 : ∀ a, off a = 0) :
    VecWindow.put X off s.size v = v := by
  funext y
  unfold VecWindow.put
  have hall : ∀ a, off a ≤ (y a).val ∧ (y a).val < off a + s.size a := fun a => ⟨by rw [h0 a]; exact Nat.zero_le _, by rw [h0 a, Nat.zero_add]; exact (y a).isLt⟩
  rw [dif_pos hall]
  refine congrArg v (funext fun a => Fin.ext ?_)
  show (y a).val - off a = (y a).val
  rw [h0 a, Nat.sub_zero]

/-- Collecting a chunk: the scratch holds the chunk, which is what is read back. -/
theorem wp_collect {x : Memref sig .tc .vmem S1024x1024 .bf16} (hx : x.IsWhole) {X : S1024x1024.Idx → Elt F .bf16} (o : ℕ) (ho : o < 2) (b : ℕ) (hb : b < 8193)
    {Q : Vec F S1024x1024 .bf16 → sProp 𝕄} :
    iprop(rowsPt c (slotS o) (gatheredBuf w T) ∗ owns (c : Thread nD τ) x fullShare X)
      ⊢ iprop((iprop(rowsPt c (slotS o) (gatheredBuf w T) ∗ owns (c : Thread nD τ) x fullShare (show S1024x1024.Idx → Elt F .bf16 from xOf w T b)) -∗ Q (xOf w T b))
        -∗ wp frame (wpE defs Variants.none (c : Thread nD τ) none) Set.univ (collect (F := F) rowsM x hx o ho b hb) Q) := by
  iintro ⟨HR, HX⟩ HQ
  unfold collect
  rw [wp_bind]
  iapply (wp_loadCol c w T o ho b _) $$ HR
  iintro HR
  rw [wp_bind]
  iapply (wp_loadCol c w T o ho (b + 1) _) $$ HR
  iintro HR
  rw [wp_bind]
  iapply (wp_loadCol c w T o ho (b + 2) _) $$ HR
  iintro HR
  rw [wp_bind]
  iapply (wp_loadCol c w T o ho (b + 3) _) $$ HR
  iintro HR
  rw [wp_bind]
  iapply (wp_loadCol c w T o ho (b + 4) _) $$ HR
  iintro HR
  rw [wp_bind]
  iapply (wp_loadCol c w T o ho (b + 5) _) $$ HR
  iintro HR
  rw [wp_bind]
  iapply (wp_loadCol c w T o ho (b + 6) _) $$ HR
  iintro HR
  rw [wp_bind]
  iapply (wp_loadCol c w T o ho (b + 7) _) $$ HR
  iintro HR
  rw [wp_bind]
  iapply (wp_loadX c) $$ HX
  iintro HX
  rw [wp_bind]
  iapply (wp_ownsStore c x inb_S1024x1024_S1024x1024_0_0 (xOf w T b) _ _) $$ HX
  iintro HX
  rw [put_full X (xOf w T b) ![0, 0] (by decide)]
  iapply (wp_loadX c) $$ HX
  iintro HX
  iapply HQ
  isplitl [HR]
  · iexact HR
  · iexact HX

/-! ## The two kinds of grid point -/

section Points

variable (i : grid0.Coords) {arg2 arg3 : Memref sig .tc .smem S1x1x2048 .i32} {arg5 arg6 : Memref sig .tc .vmem S1x1024x512 .f32} {arg7 : Memref sig .tc .vmem S1x512x1024 .f32}
  {arg8 : Memref sig .tc .vmem S1x2048x1024 .f32} {q3 q5 q6 q7 : PosShare TreeShare} {X : S1x1x2048.Idx → Elt F .i32}
  {wg wu : S1x1024x512.Idx → Elt F .f32} {wd : S1x512x1024.Idx → Elt F .f32}
  (o o' : ℕ) (ho : o < 2) (ho' : o' < 2) (hi : (slotW i).toNat = o) (hi' : (otherW i).toNat = o')
  (hw : WordsOK w) (w' : Fin 2048 → BitVec 32) (hw' : WordsOK w') (hX : Lists (F := F) w' X)

/-- The windows a point reads, which it leaves as they are. -/
def Reads (arg3 : Memref sig .tc .smem S1x1x2048 .i32) (arg5 arg6 : Memref sig .tc .vmem S1x1024x512 .f32) (arg7 : Memref sig .tc .vmem S1x512x1024 .f32)
    (q3 q5 q6 q7 : PosShare TreeShare) (X : S1x1x2048.Idx → Elt F .i32) (wg wu : S1x1024x512.Idx → Elt F .f32) (wd : S1x512x1024.Idx → Elt F .f32) : sProp 𝕄 :=
  iprop(owns (c : Thread nD τ) arg3 q3 X ∗ owns (c : Thread nD τ) arg5 q5 wg ∗ owns (c : Thread nD τ) arg6 q6 wu ∗ owns (c : Thread nD τ) arg7 q7 wd)

include hi hi' hX in
/-- An expert's first grid point: from its own batch under way in full to its chunks collected, the point's products stored,
and the next expert's batch a quarter started. -/
theorem wp_firstPoint (hg : k0_cond2 i = 1#1) (hf : (i 1).val = 0) {Y : S1x2048x1024.Idx → Elt F .f32} {A B : S1024x1024.Idx → Elt F .bf16} {R : S2x16384x128.Idx → F .f32}
    (W : Waits sig Unit) {Q : PUnit → sProp 𝕄} :
    iprop(Reads c arg3 arg5 arg6 arg7 q3 q5 q6 q7 X wg wu wd ∗ owns (c : Thread nD τ) arg8 fullShare Y
        ∗ owns (c : Thread nD τ) chunkA fullShare A ∗ owns (c : Thread nD τ) chunkB fullShare B
        ∗ Mid c o ho w hw T 2048 ∗ rowsPt c (slotS o') R ∗ semVal ((c : Thread nD τ), SemLoc.dma (slotSem o' ho')) 0 ∗ owes (c : Thread nD τ) 0 W)
      ⊢ iprop((iprop(Reads c arg3 arg5 arg6 arg7 q3 q5 q6 q7 X wg wu wd
            ∗ owns (c : Thread nD τ) arg8 fullShare (show S1x2048x1024.Idx → Elt F .f32 from
                twoChunks (outFirst (xOf w T 0) (wIn wg) (wIn wu) (wOut wd)) (outFirst (xOf w T 8192) (wIn wg) (wIn wu) (wOut wd)))
            ∗ owns (c : Thread nD τ) chunkA fullShare (show S1024x1024.Idx → Elt F .bf16 from xOf w T 0) ∗ owns (c : Thread nD τ) chunkB fullShare (show S1024x1024.Idx → Elt F .bf16 from xOf w T 8192)
            ∗ rowsPt c (slotS o) (gatheredBuf w T) ∗ semVal ((c : Thread nD τ), SemLoc.dma (slotSem o ho)) 0 ∗ Mid c o' ho' w' hw' T 512 ∗ ∃ W', owes (c : Thread nD τ) 0 W') -∗ Q ⟨⟩)
        -∗ wp frame (wpE defs Variants.none (c : Thread nD τ) none) Set.univ (firstPoint (F := F) i hg arg3 tabM arg5 arg6 arg7 arg8 rowsM chunkA (Memref.isWhole_whole _) chunkB (Memref.isWhole_whole _) semsM) Q) := by
  subst hi
  unfold Reads
  iintro ⟨⟨H3, H5, H6, H7⟩, H8, HA, HB, HM, HR', HS', HW⟩ HQ
  unfold firstPoint
  rw [wp_bind]
  iapply (wp_await c _ _ w hw T W) $$ [HM HW]
  · isplitl [HM]
    · iexact HM
    · iexact HW
  iintro ⟨HR, HT, HS, HW⟩
  rw [wp_bind]
  iapply (wp_loadIn c) $$ H5
  iintro H5
  rw [wp_bind]
  iapply (wp_loadIn c) $$ H6
  iintro H6
  rw [wp_bind]
  iapply (wp_loadOut c) $$ H7
  iintro H7
  rw [wp_bind]
  iapply (wp_collect c w T (Memref.isWhole_whole _) _ _ 0 _) $$ [HR HA]
  · isplitl [HR]
    · iexact HR
    · iexact HA
  iintro ⟨HR, HA⟩
  obtain ⟨a, b, rfl⟩ := eq_twoChunks Y
  rw [wp_bind]
  iapply (wp_loadY_fst c) $$ H8
  iintro H8
  rw [wp_bind]
  iapply (wp_storeY_fst c (outFirst (xOf w T 0) (wIn wg) (wIn wu) (wOut wd))) $$ H8
  iintro H8
  imod (mid_start c o' ho' w' hw' T R (E := Set.univ)) $$ [HR' HS' HT] with HM'
  · isplitl [HR']; · iexact HR'
    isplitl [HS']; · iexact HS'
    iexact HT
  rw [wp_bind]
  iapply (wp_copies c o' ho' w' hw' T hg hX i 0 _ hi' 256 0 _) $$ [H3 HM']
  · isplitl [H3]
    · iexact H3
    · rw [show 512 * (i 1).val + 256 * 0 + 0 = 0 by omega]
      iexact HM'
  iintro ⟨H3, HM'⟩
  rw [wp_bind]
  iapply (wp_collect c w T (Memref.isWhole_whole _) _ _ 8192 _) $$ [HR HB]
  · isplitl [HR]
    · iexact HR
    · iexact HB
  iintro ⟨HR, HB⟩
  rw [wp_bind]
  iapply (wp_loadY_snd c) $$ H8
  iintro H8
  rw [wp_bind]
  iapply (wp_storeY_snd c (outFirst (xOf w T 8192) (wIn wg) (wIn wu) (wOut wd))) $$ H8
  iintro H8
  iapply (wp_copies c o' ho' w' hw' T hg hX i 1 _ hi' 256 0 _) $$ [H3 HM']
  · isplitl [H3]
    · iexact H3
    · rw [show 512 * (i 1).val + 256 * 1 + 0 = 512 * (i 1).val + 256 * 0 + 0 + 256 by omega]
      iexact HM'
  iintro ⟨H3, HM'⟩
  iapply HQ
  isplitl [H3 H5 H6 H7]
  · isplitl [H3]; · iexact H3
    isplitl [H5]; · iexact H5
    isplitl [H6]; · iexact H6
    iexact H7
  isplitl [H8]; · iexact H8
  isplitl [HA]; · iexact HA
  isplitl [HB]; · iexact HB
  isplitl [HR]; · iexact HR
  isplitl [HS]; · iexact HS
  isplitl [HM']
  · have e : 512 * (i 1).val + 256 * 1 + 0 + 256 = 512 := by omega
    iapply (Entails.of_eq (congrArg (Mid c o' ho' w' hw' T) e)) $$ HM'
  iexists _
  iexact HW

include hi' hX in
/-- A later grid point: the point's products added, and the next expert's batch a quarter further. -/
theorem wp_laterPoint (hg : k0_cond3 i = 1#1) {a b : S1x1024x1024.Idx → F .f32} {A B : S1024x1024.Idx → Elt F .bf16} {Q : PUnit → sProp 𝕄} :
    iprop(Reads c arg3 arg5 arg6 arg7 q3 q5 q6 q7 X wg wu wd ∗ owns (c : Thread nD τ) arg8 fullShare (show S1x2048x1024.Idx → Elt F .f32 from twoChunks a b)
        ∗ owns (c : Thread nD τ) chunkA fullShare A ∗ owns (c : Thread nD τ) chunkB fullShare B ∗ Mid c o' ho' w' hw' T (512 * (i 1).val))
      ⊢ iprop((iprop(Reads c arg3 arg5 arg6 arg7 q3 q5 q6 q7 X wg wu wd
            ∗ owns (c : Thread nD τ) arg8 fullShare (show S1x2048x1024.Idx → Elt F .f32 from
                twoChunks (outLater A (wIn wg) (wIn wu) (wOut wd) a) (outLater B (wIn wg) (wIn wu) (wOut wd) b))
            ∗ owns (c : Thread nD τ) chunkA fullShare A ∗ owns (c : Thread nD τ) chunkB fullShare B
            ∗ Mid c o' ho' w' hw' T (512 * ((i 1).val + 1))) -∗ Q ⟨⟩)
        -∗ wp frame (wpE defs Variants.none (c : Thread nD τ) none) Set.univ (laterPoint (F := F) i hg arg3 tabM arg5 arg6 arg7 arg8 rowsM chunkA chunkB semsM) Q) := by
  unfold Reads
  iintro ⟨⟨H3, H5, H6, H7⟩, H8, HA, HB, HM'⟩ HQ
  unfold laterPoint
  rw [wp_bind]
  iapply (wp_loadIn c) $$ H5
  iintro H5
  rw [wp_bind]
  iapply (wp_loadIn c) $$ H6
  iintro H6
  rw [wp_bind]
  iapply (wp_loadOut c) $$ H7
  iintro H7
  rw [wp_bind]
  iapply (wp_loadX c) $$ HA
  iintro HA
  rw [wp_bind]
  iapply (wp_loadY_fst c) $$ H8
  iintro H8
  rw [wp_bind]
  iapply (wp_loadY_fst c) $$ H8
  iintro H8
  rw [wp_bind]
  iapply (wp_storeY_fst c (outLater A (wIn wg) (wIn wu) (wOut wd) a)) $$ H8
  iintro H8
  rw [wp_bind]
  iapply (wp_copies c o' ho' w' hw' T hg hX i 0 _ hi' 256 0 _) $$ [H3 HM']
  · isplitl [H3]
    · iexact H3
    · iexact HM'
  iintro ⟨H3, HM'⟩
  rw [wp_bind]
  iapply (wp_loadX c) $$ HB
  iintro HB
  rw [wp_bind]
  iapply (wp_loadY_snd c) $$ H8
  iintro H8
  rw [wp_bind]
  iapply (wp_loadY_snd c) $$ H8
  iintro H8
  rw [wp_bind]
  iapply (wp_storeY_snd c (outLater B (wIn wg) (wIn wu) (wOut wd) b)) $$ H8
  iintro H8
  iapply (wp_copies c o' ho' w' hw' T hg hX i 1 _ hi' 256 0 _) $$ [H3 HM']
  · isplitl [H3]
    · iexact H3
    · rw [show 512 * (i 1).val + 256 * 1 + 0 = 512 * (i 1).val + 256 * 0 + 0 + 256 by omega]
      iexact HM'
  iintro ⟨H3, HM'⟩
  iapply HQ
  isplitl [H3 H5 H6 H7]
  · isplitl [H3]; · iexact H3
    isplitl [H5]; · iexact H5
    isplitl [H6]; · iexact H6
    iexact H7
  isplitl [H8]; · iexact H8
  isplitl [HA]; · iexact HA
  isplitl [HB]; · iexact HB
  have e : 512 * (i 1).val + 256 * 1 + 0 + 256 = 512 * ((i 1).val + 1) := by omega
  iapply (Entails.of_eq (congrArg (Mid c o' ho' w' hw' T) e)) $$ HM'

end Points

end Cert.KernelIdeal.Experts

end
-- ==== Proof.Run.lean ====
/-
  What the kernel's buffers hold between grid points, and the body at a grid point.
-/
module

public import proofs.«01_k».proof.Proof.Body
public import proofs.«01_k».proof.Proof.Gen.KernelIdeal.Frame
public import Idealize.ShloMosaic.Lib.Pipeline.ValueKit.Point

@[expose] public section

noncomputable section

namespace Cert.KernelIdeal.Experts

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Facts K0.R1.Facts₀ Shapes1.Facts₀ K0.R3.Facts₀ K0.R5.Facts₀
open Idealize.ShloMosaic.Pipeline (Dat Cfg Window BodyObligation)

variable {F : FTy → Type} [FloatOps F] [Facts]

local notation "𝕄" => MT nD τ sig Unit (Elt F) ℕ (Pipeline.UD sig nD τ) ℕ

/-! ## The grid points -/

theorem coord0 (t : Fin grid0.N) : (grid0.coords t 0).val = t.val / 4 := by
  revert t; decide +kernel
theorem coord1 (t : Fin grid0.N) : (grid0.coords t 1).val = t.val % 4 := by
  revert t; decide +kernel
theorem cond1_iff (t : Fin grid0.N) : k0_cond1 (grid0.coords t) = 1#1 ↔ t.val = 0 := by
  revert t; decide +kernel
theorem cond2_iff (t : Fin grid0.N) : k0_cond2 (grid0.coords t) = 1#1 ↔ t.val % 4 = 0 := by
  revert t; decide +kernel
theorem cond3_iff (t : Fin grid0.N) : k0_cond3 (grid0.coords t) = 1#1 ↔ t.val % 4 ≠ 0 := by
  revert t; decide +kernel
theorem cond4_iff (t : Fin grid0.N) : k0_cond4 (grid0.coords t) = 1#1 ↔ t.val = 63 := by
  revert t; decide +kernel
theorem N_eq : grid0.N = 64 := by decide
theorem index0 (t : Fin grid0.N) : win0_0.index t = ![t.val / 4, 0, 0] := by
  revert t; decide +kernel
theorem index1 (t : Fin grid0.N) : win0_1.index t = ![min (t.val / 4 + 1) 15, 0, 0] := by
  revert t; decide +kernel
theorem index2 (t : Fin grid0.N) : win0_2.index t = ![t.val / 4, 0, t.val % 4] := by
  revert t; decide +kernel
theorem index3 (t : Fin grid0.N) : win0_3.index t = ![t.val / 4, 0, t.val % 4] := by
  revert t; decide +kernel
theorem index4 (t : Fin grid0.N) : win0_4.index t = ![t.val / 4, t.val % 4, 0] := by
  revert t; decide +kernel
theorem index5 (t : Fin grid0.N) : win0_5.index t = ![t.val / 4, 0, 0] := by
  revert t; decide +kernel

variable (m : (ℓ : Loc nD τ sig) → Buf (Elt F) ℓ) (ρ : Dev nD → PrngReg)

/-! ## The launch's contents -/

/-- A core's buffers as the region finds them. -/
abbrev V (c : Dev nD) (b : Ref sig .tc) : Buf (Elt F) ((c : Thread nD τ).loc b) := m ((c : Thread nD τ).loc b)

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (Gen.main_chain c).trans rfl

/-- Window `w`'s block at point `t`. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The table of rows. -/
abbrev tab (c : Dev nD) : S131072x128.Idx → F .f32 := V m c main_arg1

/-- Expert `e`'s list of row starts, the last expert's beyond the last. -/
def words (c : Dev nD) (e : ℕ) : Fin 2048 → BitVec 32 := fun j =>
  (V m c main_arg0 : S16x1x2048.Idx → BitVec 32) (ValueIdx.ix3 ⟨min e 15, by omega⟩ (0 : Fin 1) j)

theorem lists0 (c : Dev nD) (t : Fin cfg0.N) : Lists (F := F) (words m c (t.val / 4)) (iblk m c 0 t) := fun j => by
  have ht : t.val < 64 := t.isLt.trans_eq N_eq
  unfold words
  blk_ext [iblk, V]
  · exact (congrFun (index0 t) 0).trans (show t.val / 4 = min (t.val / 4) 15 by omega)
  · exact congrFun (index0 t) 1
  · show win0_0.index t 2 * 2048 + j.val = j.val
    rw [congrFun (index0 t) 2]
    show 0 * 2048 + j.val = j.val
    omega

theorem lists1 (c : Dev nD) (t : Fin cfg0.N) : Lists (F := F) (words m c (t.val / 4 + 1)) (iblk m c 1 t) := fun j => by
  unfold words
  blk_ext [iblk, V]
  · exact congrFun (index1 t) 0
  · exact congrFun (index1 t) 1
  · show win0_1.index t 2 * 2048 + j.val = j.val
    rw [congrFun (index1 t) 2]
    show 0 * 2048 + j.val = j.val
    omega

/-- Point `p` of the grid. -/
abbrev pt (p : ℕ) : Fin cfg0.N := ⟨p % 64, by rw [show cfg0.N = 64 from N_eq]; omega⟩

/-- What an expert's grid points up to its `f`-th leave in the chunk of the output whose rows start at row `b` of the buffer. -/
def chunkY (c : Dev nD) (e b : ℕ) : ℕ → FVec F S1x1024x1024 .f32
  | 0 => outFirst (xOf (words m c e) (tab m c) b) (wIn (iblk m c 2 (pt (4 * e)))) (wIn (iblk m c 3 (pt (4 * e)))) (wOut (iblk m c 4 (pt (4 * e))))
  | f + 1 => outLater (xOf (words m c e) (tab m c) b) (wIn (iblk m c 2 (pt (4 * e + (f + 1))))) (wIn (iblk m c 3 (pt (4 * e + (f + 1)))))
      (wOut (iblk m c 4 (pt (4 * e + (f + 1))))) (chunkY c e b f)

theorem chunkY_zero (c : Dev nD) (e b : ℕ) :
    chunkY m c e b 0 = outFirst (xOf (words m c e) (tab m c) b) (wIn (iblk m c 2 (pt (4 * e)))) (wIn (iblk m c 3 (pt (4 * e)))) (wOut (iblk m c 4 (pt (4 * e)))) := rfl
theorem chunkY_succ (c : Dev nD) (e b f : ℕ) :
    chunkY m c e b (f + 1) = outLater (xOf (words m c e) (tab m c) b) (wIn (iblk m c 2 (pt (4 * e + (f + 1))))) (wIn (iblk m c 3 (pt (4 * e + (f + 1)))))
      (wOut (iblk m c 4 (pt (4 * e + (f + 1))))) (chunkY m c e b f) := rfl

/-- What point `t` leaves in the output block. -/
def outY (c : Dev nD) (t : ℕ) : S1x2048x1024.Idx → Elt F .f32 := twoChunks (chunkY m c (t / 4) 0 (t % 4)) (chunkY m c (t / 4) 8192 (t % 4))

/-! ## Between grid points -/

variable (hok : ∀ c e, WordsOK (words m c e))

theorem two_lt (e : ℕ) : e % 2 < 2 := Nat.mod_lt _ (by decide)

/-- Before an expert's first point: its copies all under way, the other slot free. -/
def Start (c : Dev nD) (e : ℕ) : sProp 𝕄 :=
  iprop((∃ r, prngReg c r) ∗ (∃ A, owns (c : Thread nD τ) chunkA fullShare A) ∗ (∃ B, owns (c : Thread nD τ) chunkB fullShare B)
    ∗ Mid c (e % 2) (two_lt e) (words m c e) (hok c e) (tab m c) 2048
    ∗ (∃ R, rowsPt c (slotS ((e + 1) % 2)) R) ∗ semVal ((c : Thread nD τ), SemLoc.dma (slotSem ((e + 1) % 2) (two_lt _))) 0)

/-- Before an expert's point `n ≥ 1`, and after its last: its chunks collected, `n` quarters of the next one's copies under way. -/
def Later (c : Dev nD) (e n : ℕ) : sProp 𝕄 :=
  iprop((∃ r, prngReg c r) ∗ owns (c : Thread nD τ) chunkA fullShare (show S1024x1024.Idx → Elt F .bf16 from xOf (words m c e) (tab m c) 0)
    ∗ owns (c : Thread nD τ) chunkB fullShare (show S1024x1024.Idx → Elt F .bf16 from xOf (words m c e) (tab m c) 8192)
    ∗ Mid c ((e + 1) % 2) (two_lt _) (words m c (e + 1)) (hok c (e + 1)) (tab m c) (512 * n)
    ∗ (∃ R, rowsPt c (slotS (e % 2)) R) ∗ semVal ((c : Thread nD τ), SemLoc.dma (slotSem (e % 2) (two_lt _))) 0)

theorem slot_congr (c : Dev nD) {o o' : ℕ} (h : o = o') (ho : o < 2) (ho' : o' < 2) :
    (iprop((∃ R, rowsPt c (slotS o) R) ∗ semVal ((c : Thread nD τ), SemLoc.dma (slotSem o ho)) 0) : sProp 𝕄)
      = iprop((∃ R, rowsPt c (slotS o') R) ∗ semVal ((c : Thread nD τ), SemLoc.dma (slotSem o' ho')) 0) := by
  subst h; rfl

theorem later_start (c : Dev nD) (e : ℕ) : Later m hok c e 4 ⊢ Start m hok c (e + 1) := by
  unfold Later Start
  have hs := slot_congr (F := F) c (show e % 2 = (e + 1 + 1) % 2 by omega) (two_lt _) (two_lt _)
  iintro ⟨Hg, HA, HB, HM, HR⟩
  isplitl [Hg]; · iexact Hg
  isplitl [HA]; · iexists _; iexact HA
  isplitl [HB]; · iexists _; iexact HB
  isplitl [HM]; · iexact HM
  iapply (Entails.of_eq hs) $$ HR

end Cert.KernelIdeal.Experts

end
-- ==== Proof.Step.lean ====
/-
  The body at each kind of grid point, and the run of the kernel.
-/
module

public import proofs.«01_k».proof.Proof.Run

@[expose] public section

noncomputable section

namespace Cert.KernelIdeal.Experts

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Facts K0.R1.Facts₀ Shapes1.Facts₀ K0.R3.Facts₀ K0.R5.Facts₀
open Idealize.ShloMosaic.Pipeline (Dat Cfg Window BodyObligation)

variable {F : FTy → Type} [FloatOps F] [Facts]

local notation "𝕄" => MT nD τ sig Unit (Elt F) ℕ (Pipeline.UD sig nD τ) ℕ

variable (m : (ℓ : Loc nD τ sig) → Buf (Elt F) ℓ) (ρ : Dev nD → PrngReg)

/-! ## The whole buffers the body owns -/

/-- The body's two semaphores. -/
abbrev osem0 : Fin 2 → SemLoc sig := fun j => (![SemLoc.dma 12, SemLoc.dma 13] : Fin 2 → SemLoc sig) j
theorem ownSemFacts0 : Pipeline.OwnSemFacts spec0 osem0 := by decide
theorem slotSem_zero (h : 0 < 2) : slotSem 0 h = 12 := by sl_kernel_rfl
theorem slotSem_one (h : 1 < 2) : slotSem 1 h = 13 := by sl_kernel_rfl

theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (slotSem 0 (by decide))) 0 ∗ semVal ((c : Thread nD τ), SemLoc.dma (slotSem 1 (by decide))) 0) := by
  rw [Pipeline.ownSems0_eq_of_list c osem0 [0, 1] (by decide) (by decide), slotSem_zero, slotSem_one]; rfl

/-- The table, which the body's copies read. -/
def H0 : Finset (Ref sig .tc) := {main_arg1}
theorem H0_sub : H0 ⊆ Pipeline.restRefs sig spec0 := by decide
theorem hbmPts0_eq (c : Dev nD) :
    (bigSep H0 (fun b => ((c : Thread nD τ).loc b) ↦{fullShare} V m c b) : sProp 𝕄) = tabPt c Finset.univ fullShare (tab m c) := by
  rw [BI.bigSep_eq_bigSepL_of_eq [main_arg1] (by decide) (by decide)]; rfl

/-- What the body owns before the first point and after the last. -/
def Ends (c : Dev nD) : sProp 𝕄 :=
  iprop(((∃ R, rowsPt c Finset.univ R) ∗ (∃ A, owns (c : Thread nD τ) chunkA fullShare A) ∗ (∃ B, owns (c : Thread nD τ) chunkB fullShare B))
    ∗ (∃ r, prngReg c r)
    ∗ (semVal ((c : Thread nD τ), SemLoc.dma (slotSem 0 (by decide))) 0 ∗ semVal ((c : Thread nD τ), SemLoc.dma (slotSem 1 (by decide))) 0)
    ∗ tabPt c Finset.univ fullShare (tab m c))

theorem PhiD_eq (c : Dev nD) : (Pipeline.ΦD osem0 spec0 H0 (V m) c : sProp 𝕄) = Ends m c := by
  rw [Pipeline.ΦD_eq, Gen.scopedRest0_eq, ownSems00_eq, hbmPts0_eq]
  unfold Ends
  simp only [chunkA, chunkB, owns_whole]; try rfl

theorem slots_union : slotS 0 ∪ slotS 1 = Finset.univ := by
  ext x
  have : (x 0).val < 2 := (x 0).isLt
  simp only [slotS, Finset.mem_union, Finset.mem_filter, Finset.mem_univ, true_and, iff_true]
  omega
theorem slots_disjoint : Disjoint (slotS 0) (slotS 1) := by
  rw [Finset.disjoint_left]
  intro x h h'
  simp only [slotS, Finset.mem_filter, Finset.mem_univ, true_and] at h h'
  omega

theorem rows_split (c : Dev nD) (R : S2x16384x128.Idx → F .f32) :
    rowsPt c Finset.univ R ⊢ iprop(rowsPt c (slotS 0) R ∗ rowsPt c (slotS 1) R) := by
  rw [← slots_union]
  exact (pointsTo_union (Val := Elt F) (ℓ := rowsM.view.loc (c : Thread nD τ)) (q := fullShare) (f := R) (I := slotS 0) (J := slotS 1) slots_disjoint).1

theorem rows_join (c : Dev nD) (R R' : S2x16384x128.Idx → F .f32) :
    iprop(rowsPt c (slotS 0) R ∗ rowsPt c (slotS 1) R') ⊢ iprop(∃ R, rowsPt c Finset.univ R) := by
  have h := pointsTo_join (Val := Elt F) (ℓ := rowsM.view.loc (c : Thread nD τ)) (q := fullShare) (f := R) (g := R') (I := slotS 0) (J := slotS 1) slots_disjoint (U := Pipeline.UD sig nD τ) (Ix := Unit) (Name := ℕ) (Lvl := ℕ)
  rw [show (slotS 0 ∪ slotS 1 : Finset (Idx (rowsM.view.loc (c : Thread nD τ)))) = Finset.univ from slots_union] at h
  exact h.trans (BIClass.exists_intro (Φ := fun R => rowsPt c Finset.univ R) _)

/-! ## The body at each kind of point -/

variable (hok : ∀ c e, WordsOK (words m c e))

/-- What the body owns between points. -/
def Phi (c : Dev nD) (p : ℕ) : sProp 𝕄 :=
  if p % 64 = 0 then Ends m c else if p % 4 = 0 then Start m hok c (p / 4) else Later m hok c (p / 4) (p % 4)

section Body

variable {defs : Defs nD τ sig (Elt F) Λ₀} (c : Dev nD) (i : grid0.Coords) {arg2 arg3 : Memref sig .tc .smem S1x1x2048 .i32} {arg5 arg6 : Memref sig .tc .vmem S1x1024x512 .f32} {arg7 : Memref sig .tc .vmem S1x512x1024 .f32}
  {arg8 : Memref sig .tc .vmem S1x2048x1024 .f32}

/-- The body at the program's own scratches. -/
abbrev bodyIn (i : grid0.Coords) (arg2 arg3 : Memref sig .tc .smem S1x1x2048 .i32) (arg5 arg6 : Memref sig .tc .vmem S1x1024x512 .f32) (arg7 : Memref sig .tc .vmem S1x512x1024 .f32)
    (arg8 : Memref sig .tc .vmem S1x2048x1024 .f32) : Prog (TpuEff nD τ sig (Elt F) Λ₀ .tc) PUnit :=
  body i arg2 arg3 tabM arg5 arg6 arg7 arg8 rowsM chunkA (Memref.isWhole_whole _) chunkB (Memref.isWhole_whole _) semsM

theorem body_very_first (h1 : k0_cond1 i = 1#1) (h2 : k0_cond2 i = 1#1) (h3 : ¬ k0_cond3 i = 1#1) (h4 : ¬ k0_cond4 i = 1#1) :
    bodyIn (F := F) i arg2 arg3 arg5 arg6 arg7 arg8
      = (firstCopies i h1 arg2 tabM rowsM semsM >>= fun _ => firstPoint i h2 arg3 tabM arg5 arg6 arg7 arg8 rowsM chunkA (Memref.isWhole_whole _) chunkB (Memref.isWhole_whole _) semsM) := by
  unfold bodyIn body
  simp only [dif_pos h1, dif_pos h2, dif_neg h3, dif_neg h4, pure_bind, bind_pure_unit]

theorem body_first (h1 : ¬ k0_cond1 i = 1#1) (h2 : k0_cond2 i = 1#1) (h3 : ¬ k0_cond3 i = 1#1) (h4 : ¬ k0_cond4 i = 1#1) :
    bodyIn (F := F) i arg2 arg3 arg5 arg6 arg7 arg8
      = firstPoint i h2 arg3 tabM arg5 arg6 arg7 arg8 rowsM chunkA (Memref.isWhole_whole _) chunkB (Memref.isWhole_whole _) semsM := by
  unfold bodyIn body
  simp only [dif_neg h1, dif_pos h2, dif_neg h3, dif_neg h4, pure_bind, bind_pure_unit]

theorem body_later (h1 : ¬ k0_cond1 i = 1#1) (h2 : ¬ k0_cond2 i = 1#1) (h3 : k0_cond3 i = 1#1) (h4 : ¬ k0_cond4 i = 1#1) :
    bodyIn (F := F) i arg2 arg3 arg5 arg6 arg7 arg8
      = laterPoint i h3 arg3 tabM arg5 arg6 arg7 arg8 rowsM chunkA chunkB semsM := by
  unfold bodyIn body
  simp only [dif_neg h1, dif_neg h2, dif_pos h3, dif_neg h4, pure_bind, bind_pure_unit]

theorem body_last (h1 : ¬ k0_cond1 i = 1#1) (h2 : ¬ k0_cond2 i = 1#1) (h3 : k0_cond3 i = 1#1) (h4 : k0_cond4 i = 1#1) :
    bodyIn (F := F) i arg2 arg3 arg5 arg6 arg7 arg8
      = (laterPoint i h3 arg3 tabM arg5 arg6 arg7 arg8 rowsM chunkA chunkB semsM >>= fun _ => await tabM rowsM semsM (otherW i).toNat (otherW_lt i)) := by
  unfold bodyIn body
  simp only [dif_neg h1, dif_neg h2, dif_pos h3, dif_pos h4, pure_bind, bind_pure_unit]

variable {X0 X : S1x1x2048.Idx → Elt F .i32} {wg wu : S1x1024x512.Idx → Elt F .f32} {wd : S1x512x1024.Idx → Elt F .f32} (e : ℕ)

/-- An expert's first point from the batch under way in full. -/
theorem point_start (he : (i 0).val = e) (hf : (i 1).val = 0) (hX : Lists (F := F) (words m c (e + 1)) X) (hg : k0_cond2 i = 1#1)
    {Y : S1x2048x1024.Idx → Elt F .f32} (W : Waits sig Unit) {Q : PUnit → sProp 𝕄} :
    iprop(Start m hok c e ∗ owes (c : Thread nD τ) 0 W
        ∗ Reads c arg3 arg5 arg6 arg7 fullShare fullShare fullShare fullShare X wg wu wd ∗ owns (c : Thread nD τ) arg8 fullShare Y)
      ⊢ iprop((iprop(Later m hok c e 1 ∗ (∃ W', owes (c : Thread nD τ) 0 W')
            ∗ Reads c arg3 arg5 arg6 arg7 fullShare fullShare fullShare fullShare X wg wu wd
            ∗ owns (c : Thread nD τ) arg8 fullShare (show S1x2048x1024.Idx → Elt F .f32 from
                twoChunks (outFirst (xOf (words m c e) (tab m c) 0) (wIn wg) (wIn wu) (wOut wd)) (outFirst (xOf (words m c e) (tab m c) 8192) (wIn wg) (wIn wu) (wOut wd)))) -∗ Q ⟨⟩)
        -∗ wp frame (wpE defs Variants.none (c : Thread nD τ) none) Set.univ
          (firstPoint (F := F) i hg arg3 tabM arg5 arg6 arg7 arg8 rowsM chunkA (Memref.isWhole_whole _) chunkB (Memref.isWhole_whole _) semsM) Q) := by
  have ho : (slotW i).toNat = e % 2 := by rw [slotW_toNat, he]
  have ho' : (otherW i).toNat = (e + 1) % 2 := by rw [otherW_toNat, he]; omega
  unfold Start
  iintro ⟨⟨Hg, ⟨%A, HA⟩, ⟨%B, HB⟩, HM, ⟨%R, HR⟩, HS⟩, HW, HX, H8⟩ HQ
  iapply (wp_firstPoint c (words m c e) (tab m c) i (e % 2) ((e + 1) % 2) (two_lt _) (two_lt _) ho ho' (hok c e) (words m c (e + 1)) (hok c (e + 1)) hX hg hf W) $$ [HX H8 HA HB HM HR HS HW]
  · isplitl [HX]; · iexact HX
    isplitl [H8]; · iexact H8
    isplitl [HA]; · iexact HA
    isplitl [HB]; · iexact HB
    isplitl [HM]; · iexact HM
    isplitl [HR]; · iexact HR
    isplitl [HS]; · iexact HS
    iexact HW
  iintro ⟨HX, H8, HA, HB, HR, HS, HM, HW⟩
  iapply HQ
  isplitl [Hg HA HB HM HR HS]
  · unfold Later
    isplitl [Hg]; · iexact Hg
    isplitl [HA]; · iexact HA
    isplitl [HB]; · iexact HB
    isplitl [HM]; · iexact HM
    isplitl [HR]; · iexists _; iexact HR
    iexact HS
  isplitl [HW]; · iexact HW
  isplitl [HX]; · iexact HX
  iexact H8

/-- A later point of an expert. -/
theorem point_later (he : (i 0).val = e) (hX : Lists (F := F) (words m c (e + 1)) X) (hg : k0_cond3 i = 1#1)
    {a b : S1x1024x1024.Idx → F .f32} {Q : PUnit → sProp 𝕄} :
    iprop(Later m hok c e (i 1).val
        ∗ Reads c arg3 arg5 arg6 arg7 fullShare fullShare fullShare fullShare X wg wu wd
        ∗ owns (c : Thread nD τ) arg8 fullShare (show S1x2048x1024.Idx → Elt F .f32 from twoChunks a b))
      ⊢ iprop((iprop(Later m hok c e ((i 1).val + 1)
            ∗ Reads c arg3 arg5 arg6 arg7 fullShare fullShare fullShare fullShare X wg wu wd
            ∗ owns (c : Thread nD τ) arg8 fullShare (show S1x2048x1024.Idx → Elt F .f32 from
                twoChunks (outLater (xOf (words m c e) (tab m c) 0) (wIn wg) (wIn wu) (wOut wd) a) (outLater (xOf (words m c e) (tab m c) 8192) (wIn wg) (wIn wu) (wOut wd) b))) -∗ Q ⟨⟩)
        -∗ wp frame (wpE defs Variants.none (c : Thread nD τ) none) Set.univ
          (laterPoint (F := F) i hg arg3 tabM arg5 arg6 arg7 arg8 rowsM chunkA chunkB semsM) Q) := by
  have ho' : (otherW i).toNat = (e + 1) % 2 := by rw [otherW_toNat, he]; omega
  unfold Later
  iintro ⟨⟨Hg, HA, HB, HM, HR, HS⟩, HX, H8⟩ HQ
  iapply (wp_laterPoint c (tab m c) i ((e + 1) % 2) (two_lt _) ho' (words m c (e + 1)) (hok c (e + 1)) hX hg) $$ [HX H8 HA HB HM]
  · isplitl [HX]; · iexact HX
    isplitl [H8]; · iexact H8
    isplitl [HA]; · iexact HA
    isplitl [HB]; · iexact HB
    iexact HM
  iintro ⟨HX, H8, HA, HB, HM⟩
  iapply HQ
  isplitl [Hg HA HB HM HR HS]
  · isplitl [Hg]; · iexact Hg
    isplitl [HA]; · iexact HA
    isplitl [HB]; · iexact HB
    isplitl [HM]; · iexact HM
    isplitl [HR]; · iexact HR
    iexact HS
  isplitl [HX]; · iexact HX
  iexact H8

/-- The very first point's own copies: from the buffers as found to the first expert's batch under way in full. -/
theorem point_copies (hX0 : Lists (F := F) (words m c 0) X0) (hg : k0_cond1 i = 1#1) {Q : PUnit → sProp 𝕄} :
    iprop(Ends m c ∗ owns (c : Thread nD τ) arg2 fullShare X0)
      ⊢ iprop((iprop(Start m hok c 0 ∗ owns (c : Thread nD τ) arg2 fullShare X0) -∗ Q ⟨⟩)
        -∗ wp frame (wpE defs Variants.none (c : Thread nD τ) none) Set.univ (firstCopies (F := F) i hg arg2 tabM rowsM semsM) Q) := by
  unfold Ends
  iintro ⟨⟨⟨⟨%R, HR⟩, HA, HB⟩, Hg, ⟨HS0, HS1⟩, HT⟩, H2⟩ HQ
  ihave HR := (rows_split c R) $$ HR
  icases HR with ⟨HR0, HR1⟩
  imod (mid_start c 0 (by decide) (words m c 0) (hok c 0) (tab m c) R (E := Set.univ)) $$ [HR0 HS0 HT] with HM
  · isplitl [HR0]; · iexact HR0
    isplitl [HS0]; · iexact HS0
    iexact HT
  iapply (wp_firstCopies c (words m c 0) (hok c 0) (tab m c) hX0 i hg) $$ [H2 HM]
  · isplitl [H2]; · iexact H2
    iexact HM
  iintro ⟨H2, HM⟩
  iapply HQ
  isplitr [H2]
  · unfold Start
    isplitl [Hg]; · iexact Hg
    isplitl [HA]; · iexact HA
    isplitl [HB]; · iexact HB
    isplitl [HM]; · iexact HM
    isplitl [HR1]; · iexists _; iexact HR1
    iexact HS1
  iexact H2

theorem await_congr {o o' : ℕ} (h : o = o') (ho : o < 2) (ho' : o' < 2) :
    await (F := F) tabM rowsM semsM o ho = await tabM rowsM semsM o' ho' := by
  subst h; rfl

/-- The very last point's wait: everything is back. -/
theorem point_await (ho : (otherW i).toNat = 0) (W : Waits sig Unit) {Q : PUnit → sProp 𝕄} :
    iprop(Later m hok c 15 4 ∗ owes (c : Thread nD τ) 0 W)
      ⊢ iprop((iprop(Ends m c ∗ ∃ W', owes (c : Thread nD τ) 0 W') -∗ Q ⟨⟩)
        -∗ wp frame (wpE defs Variants.none (c : Thread nD τ) none) Set.univ (await (F := F) tabM rowsM semsM (otherW i).toNat (otherW_lt i)) Q) := by
  rw [await_congr ho _ (by decide)]
  unfold Later
  iintro ⟨⟨Hg, HA, HB, HM, ⟨%R, HR⟩, HS⟩, HW⟩ HQ
  iapply (wp_await c 0 _ (words m c (15 + 1)) (hok c (15 + 1)) (tab m c) W) $$ [HM HW]
  · isplitl [HM]; · iexact HM
    iexact HW
  iintro ⟨HR0, HT, HS0, HW⟩
  iapply HQ
  isplitr [HW]
  · unfold Ends
    isplitl [HR0 HR HA HB]
    · isplitl [HR0 HR]
      · iapply (rows_join c (gatheredBuf (words m c (15 + 1)) (tab m c)) R)
        isplitl [HR0]; · iexact HR0
        iexact HR
      isplitl [HA]; · iexists _; iexact HA
      iexists _; iexact HB
    isplitl [Hg]; · iexact Hg
    isplitl [HS0 HS]
    · isplitl [HS0]; · iexact HS0
      iexact HS
    iexact HT
  iexists _; iexact HW

end Body

/-! ## The body at a grid point -/

abbrev ms0 (t : Fin cfg0.N) := win0_0.stage (cfg0.slots t 0)
abbrev ms1 (t : Fin cfg0.N) := win0_1.stage (cfg0.slots t 1)
abbrev ms2 (t : Fin cfg0.N) := win0_2.stage (cfg0.slots t 2)
abbrev ms3 (t : Fin cfg0.N) := win0_3.stage (cfg0.slots t 3)
abbrev ms4 (t : Fin cfg0.N) := win0_4.stage (cfg0.slots t 4)
abbrev ms5 (t : Fin cfg0.N) := win0_5.stage (cfg0.slots t 5)

/-- The windows' buffers at point `t`, the output's at `Y`. -/
def Wins (c : Dev nD) (t : Fin cfg0.N) (Y : S1x2048x1024.Idx → Elt F .f32) : sProp 𝕄 :=
  iprop(owns (c : Thread nD τ) (ms0 t) fullShare (iblk m c 0 t)
    ∗ Reads c (ms1 t) (ms2 t) (ms3 t) (ms4 t) fullShare fullShare fullShare fullShare (iblk m c 1 t) (iblk m c 2 t) (iblk m c 3 t) (iblk m c 4 t)
    ∗ owns (c : Thread nD τ) (ms5 t) fullShare Y)

theorem pt_eq (t : Fin cfg0.N) {p : ℕ} (h : t.val = p) : pt p = t := by
  have ht : t.val < 64 := t.isLt.trans_eq N_eq
  exact Fin.ext (show p % 64 = t.val by omega)

/-- The body at point `t`, whose output block holds what the point before left unless `t` is an expert's first. -/
theorem step {defs : Defs nD τ sig (Elt F) Λ₀} (c : Dev nD) (t : Fin cfg0.N) (Y : S1x2048x1024.Idx → Elt F .f32) (hY : t.val % 4 ≠ 0 → Y = outY m c (t.val - 1)) (W : Waits sig Unit) :
    iprop(Phi m hok c t.val ∗ owes (c : Thread nD τ) 0 W ∗ Wins m c t Y)
      ⊢ wp frame (wpE defs Variants.none (c : Thread nD τ) none) Set.univ (bodyIn (F := F) (grid0.coords t) (ms0 t) (ms1 t) (ms2 t) (ms3 t) (ms4 t) (ms5 t))
          (fun _ => iprop(Phi m hok c (t.val + 1) ∗ (∃ W', owes (c : Thread nD τ) 0 W') ∗ Wins m c t (outY m c t.val))) := by
  have ht : t.val < 64 := t.isLt.trans_eq N_eq
  have hc0 := coord0 t
  have hc1 := coord1 t
  have hL := lists1 m c t
  by_cases hf : t.val % 4 = 0
  · have hp : pt (4 * (t.val / 4)) = t := pt_eq t (by omega)
    have hout : outY m c t.val = twoChunks (outFirst (xOf (words m c (t.val / 4)) (tab m c) 0) (wIn (iblk m c 2 t)) (wIn (iblk m c 3 t)) (wOut (iblk m c 4 t)))
        (outFirst (xOf (words m c (t.val / 4)) (tab m c) 8192) (wIn (iblk m c 2 t)) (wIn (iblk m c 3 t)) (wOut (iblk m c 4 t))) := by
      unfold outY
      rw [hf, chunkY_zero, chunkY_zero, hp]
    have hnext : Phi m hok c (t.val + 1) = Later m hok c (t.val / 4) 1 := by
      unfold Phi
      rw [if_neg (by omega), if_neg (by omega), show (t.val + 1) / 4 = t.val / 4 by omega, show (t.val + 1) % 4 = 1 by omega]
    rw [hout, hnext]
    have h2 : k0_cond2 (grid0.coords t) = 1#1 := (cond2_iff t).2 hf
    have h3 : ¬ k0_cond3 (grid0.coords t) = 1#1 := fun h => (cond3_iff t).1 h hf
    have h4 : ¬ k0_cond4 (grid0.coords t) = 1#1 := fun h => by have := (cond4_iff t).1 h; omega
    by_cases h0 : t.val = 0
    · have h1 : k0_cond1 (grid0.coords t) = 1#1 := (cond1_iff t).2 h0
      have hL0 : Lists (F := F) (words m c 0) (iblk m c 0 t) := by
        have := lists0 m c t
        rwa [show t.val / 4 = 0 by omega] at this
      rw [body_very_first _ h1 h2 h3 h4, show Phi m hok c t.val = Ends m c by unfold Phi; rw [if_pos (by omega)]]
      unfold Wins
      iintro ⟨HE, HW, H0, HX, H8⟩
      rw [wp_bind]
      iapply (point_copies m hok c _ hL0 h1) $$ [HE H0]
      · isplitl [HE]; · iexact HE
        iexact H0
      iintro ⟨HS, H0⟩
      iapply (point_start m hok c _ (t.val / 4) hc0 (hc1.trans hf) hL h2 W) $$ [HS HW HX H8]
      · isplitl [HS]
        · rw [show t.val / 4 = 0 by omega]; iexact HS
        isplitl [HW]; · iexact HW
        isplitl [HX]; · iexact HX
        iexact H8
      iintro ⟨HS, HW, HX, H8⟩
      isplitl [HS]; · iexact HS
      isplitl [HW]; · iexact HW
      isplitl [H0]; · iexact H0
      isplitl [HX]; · iexact HX
      iexact H8
    · have h1 : ¬ k0_cond1 (grid0.coords t) = 1#1 := fun h => h0 ((cond1_iff t).1 h)
      rw [body_first _ h1 h2 h3 h4, show Phi m hok c t.val = Start m hok c (t.val / 4) by unfold Phi; rw [if_neg (by omega), if_pos hf]]
      unfold Wins
      iintro ⟨HS, HW, H0, HX, H8⟩
      iapply (point_start m hok c _ (t.val / 4) hc0 (hc1.trans hf) hL h2 W) $$ [HS HW HX H8]
      · isplitl [HS]; · iexact HS
        isplitl [HW]; · iexact HW
        isplitl [HX]; · iexact HX
        iexact H8
      iintro ⟨HS, HW, HX, H8⟩
      isplitl [HS]; · iexact HS
      isplitl [HW]; · iexact HW
      isplitl [H0]; · iexact H0
      isplitl [HX]; · iexact HX
      iexact H8
  · obtain ⟨f, hf'⟩ : ∃ f, t.val % 4 = f + 1 := ⟨t.val % 4 - 1, by omega⟩
    have hp : pt (4 * (t.val / 4) + (f + 1)) = t := pt_eq t (by omega)
    have hout : outY m c t.val
        = twoChunks (outLater (xOf (words m c (t.val / 4)) (tab m c) 0) (wIn (iblk m c 2 t)) (wIn (iblk m c 3 t)) (wOut (iblk m c 4 t)) (chunkY m c (t.val / 4) 0 f))
          (outLater (xOf (words m c (t.val / 4)) (tab m c) 8192) (wIn (iblk m c 2 t)) (wIn (iblk m c 3 t)) (wOut (iblk m c 4 t)) (chunkY m c (t.val / 4) 8192 f)) := by
      unfold outY
      rw [hf', chunkY_succ, chunkY_succ, hp]
    have hbefore : Y = twoChunks (chunkY m c (t.val / 4) 0 f) (chunkY m c (t.val / 4) 8192 f) := by
      rw [hY hf]
      unfold outY
      rw [show (t.val - 1) / 4 = t.val / 4 by omega, show (t.val - 1) % 4 = f by omega]
    have hthis : Phi m hok c t.val = Later m hok c (t.val / 4) ((grid0.coords t) 1).val := by
      unfold Phi
      rw [if_neg (by omega), if_neg hf, hc1]
    rw [hout, hbefore, hthis]
    have h1 : ¬ k0_cond1 (grid0.coords t) = 1#1 := fun h => by have := (cond1_iff t).1 h; omega
    have h2 : ¬ k0_cond2 (grid0.coords t) = 1#1 := fun h => hf ((cond2_iff t).1 h)
    have h3 : k0_cond3 (grid0.coords t) = 1#1 := (cond3_iff t).2 hf
    by_cases hl : t.val = 63
    · have h4 : k0_cond4 (grid0.coords t) = 1#1 := (cond4_iff t).2 hl
      rw [body_last _ h1 h2 h3 h4, show Phi m hok c (t.val + 1) = Ends m c by unfold Phi; rw [if_pos (by omega)]]
      unfold Wins
      iintro ⟨HS, HW, H0, HX, H8⟩
      rw [wp_bind]
      iapply (point_later m hok c _ (t.val / 4) hc0 hL h3) $$ [HS HX H8]
      · isplitl [HS]; · iexact HS
        isplitl [HX]; · iexact HX
        iexact H8
      iintro ⟨HS, HX, H8⟩
      have hlast : Later m hok c (t.val / 4) (((grid0.coords t) 1).val + 1) = Later m hok c 15 4 := by
        rw [hc1, show t.val / 4 = 15 by omega, show t.val % 4 + 1 = 4 by omega]
      iapply (point_await m hok c (grid0.coords t) (by rw [otherW_toNat, hc0, hl]) W) $$ [HS HW]
      · isplitl [HS]; · iapply (Entails.of_eq hlast) $$ HS
        iexact HW
      iintro ⟨HS, HW⟩
      isplitl [HS]; · iexact HS
      isplitl [HW]; · iexact HW
      isplitl [H0]; · iexact H0
      isplitl [HX]; · iexact HX
      iexact H8
    · have h4 : ¬ k0_cond4 (grid0.coords t) = 1#1 := fun h => hl ((cond4_iff t).1 h)
      rw [body_later _ h1 h2 h3 h4]
      unfold Wins
      iintro ⟨HS, HW, H0, HX, H8⟩
      iapply (point_later m hok c _ (t.val / 4) hc0 hL h3) $$ [HS HX H8]
      · isplitl [HS]; · iexact HS
        isplitl [HX]; · iexact HX
        iexact H8
      iintro ⟨HS, HX, H8⟩
      have hnext : Later m hok c (t.val / 4) (((grid0.coords t) 1).val + 1) ⊢ Phi m hok c (t.val + 1) := by
        rw [hc1]
        unfold Phi
        rw [if_neg (by omega)]
        by_cases h : (t.val + 1) % 4 = 0
        · rw [if_pos h, show t.val % 4 + 1 = 4 by omega, show (t.val + 1) / 4 = t.val / 4 + 1 by omega]
          exact later_start m hok c _
        · rw [if_neg h, show (t.val + 1) % 4 = t.val % 4 + 1 by omega, show (t.val + 1) / 4 = t.val / 4 by omega]
      isplitl [HS]; · iapply hnext $$ HS
      isplitl [HW]; · iexists _; iexact HW
      isplitl [H0]; · iexact H0
      isplitl [HX]; · iexact HX
      iexact H8

end Cert.KernelIdeal.Experts

end
-- ==== Proof.Launched.lean ====
/-
  The run of the kernel: what it leaves in its result, its arguments as launched, its semaphores at zero.
-/
module

public import proofs.«01_k».proof.Proof.Step

@[expose] public section

noncomputable section

namespace Cert.KernelIdeal.Experts

open Cert.KernelIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx
open Facts K0.R1.Facts₀ Shapes1.Facts₀ K0.R3.Facts₀ K0.R5.Facts₀
open Idealize.ShloMosaic.Pipeline (Dat Cfg Window BodyObligation)

variable {F : FTy → Type} [FloatOps F] [Facts]

local notation "𝕄" => MT nD τ sig Unit (Elt F) ℕ (Pipeline.UD sig nD τ) ℕ

variable (m : (ℓ : Loc nD τ sig) → Buf (Elt F) ℓ) (ρ : Dev nD → PrngReg) (hok : ∀ c e, WordsOK (words m c e))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outY m c t.val
  Φ p := Phi m hok c p.val
  q w := Pipeline.shareOf spec0 w
  owed _ := 0

theorem A_eq (c : Dev nD) (w : Fin cfg0.W) : (dats m hok 0 c).A w = V m c (Pipeline.arrRef spec0 w) := by
  dsimp only [dats]
theorem after_0 (c : Dev nD) (t : Fin cfg0.N) : (dats m hok 0 c).after 0 t = iblk m c 0 t := rfl
theorem after_1 (c : Dev nD) (t : Fin cfg0.N) : (dats m hok 0 c).after 1 t = iblk m c 1 t := rfl
theorem after_2 (c : Dev nD) (t : Fin cfg0.N) : (dats m hok 0 c).after 2 t = iblk m c 2 t := rfl
theorem after_3 (c : Dev nD) (t : Fin cfg0.N) : (dats m hok 0 c).after 3 t = iblk m c 3 t := rfl
theorem after_4 (c : Dev nD) (t : Fin cfg0.N) : (dats m hok 0 c).after 4 t = iblk m c 4 t := rfl
theorem after_5 (c : Dev nD) (t : Fin cfg0.N) : (dats m hok 0 c).after 5 t = outY m c t.val := rfl

theorem before_0 (c : Dev nD) (t : Fin cfg0.N) (d) : (dats m hok 0 c).before 0 t d = iblk m c 0 t :=
  ((dats m hok 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m hok 0 c).before 1 t d = iblk m c 1 t :=
  ((dats m hok 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m hok 0 c).before 2 t d = iblk m c 2 t :=
  ((dats m hok 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m hok 0 c).before 3 t d = iblk m c 3 t :=
  ((dats m hok 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m hok 0 c).before 4 t d = iblk m c 4 t :=
  ((dats m hok 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

theorem idle_5' (t : Fin grid0.N) : (!(k0_cond2 (grid0.coords t) == 1#1) && !(k0_cond3 (grid0.coords t) == 1#1)) = false := by
  revert t; decide +kernel
/-- Every point stores to the output block. -/
theorem idle_5 (t : Fin cfg0.N) : cfg0.idle 5 (cfg0.grid.coords t) = false := idle_5' t

/-- Within an expert the output block is carried from one point to the next. -/
theorem before_5 (c : Dev nD) (t : Fin cfg0.N) (d) (h : t.val % 4 ≠ 0) : (dats m hok 0 c).before 5 t d = outY m c (t.val - 1) := by
  have hfl : (cfg0.win 5).flush ⟨t.val - 1, Nat.lt_of_le_of_lt (Nat.sub_le _ _) t.isLt⟩ = false := by
    by_contra hh
    have := (Gen.flush0_5 ⟨t.val - 1, Nat.lt_of_le_of_lt (Nat.sub_le _ _) t.isLt⟩).1 (eq_true_of_ne_false hh)
    simp only at this
    omega
  rw [(dats m hok 0 c).before_of_pos 5 t (by omega) rfl d, hfl, if_neg (by decide)]
  unfold Dat.left
  rw [idle_5]
  rfl

def bodyPre (c : Dev nD) (t : Fin cfg0.N) : sProp 𝕄 :=
  iprop((dats m hok 0 c).Φ t.castSucc ∗ (dats m hok 0 c).owesAt () t.castSucc
    ∗ (∃ d, owns (c : Thread nD τ) (ms0 t) fullShare ((dats m hok 0 c).before 0 t d))
    ∗ (∃ d, owns (c : Thread nD τ) (ms1 t) fullShare ((dats m hok 0 c).before 1 t d))
    ∗ (∃ d, owns (c : Thread nD τ) (ms2 t) fullShare ((dats m hok 0 c).before 2 t d))
    ∗ (∃ d, owns (c : Thread nD τ) (ms3 t) fullShare ((dats m hok 0 c).before 3 t d))
    ∗ (∃ d, owns (c : Thread nD τ) (ms4 t) fullShare ((dats m hok 0 c).before 4 t d))
    ∗ (∃ d, owns (c : Thread nD τ) (ms5 t) fullShare ((dats m hok 0 c).before 5 t d)))
def bodyPost (c : Dev nD) (t : Fin cfg0.N) : sProp 𝕄 :=
  iprop((dats m hok 0 c).Φ t.succ ∗ (dats m hok 0 c).owesAt () t.succ
    ∗ owns (c : Thread nD τ) (ms0 t) fullShare ((dats m hok 0 c).after 0 t)
    ∗ owns (c : Thread nD τ) (ms1 t) fullShare ((dats m hok 0 c).after 1 t)
    ∗ owns (c : Thread nD τ) (ms2 t) fullShare ((dats m hok 0 c).after 2 t)
    ∗ owns (c : Thread nD τ) (ms3 t) fullShare ((dats m hok 0 c).after 3 t)
    ∗ owns (c : Thread nD τ) (ms4 t) fullShare ((dats m hok 0 c).after 4 t)
    ∗ owns (c : Thread nD τ) (ms5 t) fullShare ((dats m hok 0 c).after 5 t))

theorem bodyAt_eq (t : Fin cfg0.N) : Gen.bodyAt0 (F := F) t = bodyIn (grid0.coords t) (ms0 t) (ms1 t) (ms2 t) (ms3 t) (ms4 t) (ms5 t) :=
  cc0_experts_eq _ _ _ _ _ _ _ _ _ _ _ _ _ _ _ _ _ _ _ _ _ _

theorem sound_body (c : Dev nD) (t : Fin cfg0.N) :
    bodyPre m hok c t ⊢ wp frame (wpE (defs₀ (F := F)) Variants.none c none) Set.univ (Gen.bodyAt0 t) (fun _ => bodyPost m hok c t) := by
  unfold bodyPre bodyPost
  rw [bodyAt_eq, after_0, after_1, after_2, after_3, after_4, after_5]
  rw [show (dats m hok 0 c).Φ t.castSucc = Phi m hok c t.val from rfl, show (dats m hok 0 c).Φ t.succ = Phi m hok c (t.val + 1) from rfl]
  unfold Dat.owesAt Pipeline.owesWithin
  rw [show (dats m hok 0 c).owed t.castSucc = 0 from rfl, show (dats m hok 0 c).owed t.succ = 0 from rfl]
  simp only [before_0, before_1, before_2, before_3, before_4]
  iintro ⟨HP, ⟨%W, -, HW⟩, ⟨%d0, H0⟩, ⟨%d1, H1⟩, ⟨%d2, H2⟩, ⟨%d3, H3⟩, ⟨%d4, H4⟩, ⟨%d5, H5⟩⟩
  iapply wp_wand $$ [HP HW H0 H1 H2 H3 H4 H5]
  · iapply (step m hok c t ((dats m hok 0 c).before 5 t d5) (before_5 m hok c t d5) W)
    isplitl [HP]; · iexact HP
    isplitl [HW]; · iexact HW
    unfold Wins Reads
    isplitl [H0]; · iexact H0
    isplitl [H1 H2 H3 H4]
    · isplitl [H1]; · iexact H1
      isplitl [H2]; · iexact H2
      isplitl [H3]; · iexact H3
      iexact H4
    iexact H5
  iintro %_ ⟨HP, ⟨%W', HW⟩, HH⟩
  unfold Wins Reads
  icases HH with ⟨H0, ⟨H1, H2, H3, H4⟩, H5⟩
  isplitl [HP]; · iexact HP
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  iexact H5

theorem defs₀_row (t : Fin cfg0.N) :
    defs₀ (F := F) .tc cfg0.body (cfg0.bodyArgs t (cfg0.slots t)) = Gen.bodyAt0 t := by
  unfold defs₀; rw [Defs.onTc_tc]

theorem body_obligation (c : Dev nD) : BodyObligation (dats m hok 0 c) (defs₀ (F := F)) Variants.none () Set.univ := fun t => by
  rw [Gen.bigSep_W0, Gen.bigSep_W0, defs₀_row]
  refine triple_restated (sound_body m hok c t) rfl .rfl fun _ => ?_
  rw [idle_5]
  exact .rfl

/-! ## The run -/

set_option backward.isDefEq.respectTransparency.types false in
theorem run_main : θ_run defs (onTc (τ := τ) (main (F := F))) (s₀ m ρ) (fun r => Pipeline.FramePost cfgs (dats m hok) 0 (V m) r ∧ r.2.sem = fun _ => 0) :=
  Pipeline.θ_run_frame_dma_shared (Q' := _) cfgs (dats m hok) (0 : Fin 1) Gen.launch₀0 osem0 defs₀ Variants.none ownSemFacts0 H0 H0_sub m ρ main
    (hbody := fun c => (body_obligation m hok c).loose) (hq := fun _ _ _ => rfl)
    (howed := fun _ _ => rfl) (V := V m) (hmain := hmain m Variants.none) (hA := A_eq m hok)
    (hin := fun c => Entails.of_eq ((PhiD_eq m c).trans (by rw [show (dats m hok 0 c).Φ 0 = Phi m hok c 0 from rfl]; unfold Phi; rw [if_pos (by omega)])))
    (hout := fun c => Entails.of_eq (((by rw [show (dats m hok 0 c).Φ (Fin.last _) = Phi m hok c cfg0.N from rfl, show cfg0.N = 64 from N_eq]; unfold Phi; rw [if_pos (by omega)]) : (dats m hok 0 c).Φ (Fin.last _) = Ends m c).trans (PhiD_eq m c).symm))

/-- The result after the run. -/
def result (c : Dev nD) : Buf (Elt F) ((c : Thread nD τ).loc main_v0) := (dats m hok 0 c).arrAt 5 cfg0.N

/-- The run leaves the result, the arguments as launched, and every semaphore at zero. -/
theorem run : θ_run defs (onTc (τ := τ) (main (F := F))) ⟨m, fun _ => 0, ρ⟩ (fun r => (∀ c : Dev nD,
      r.2.mem ((c.tc : Thread nD τ).loc main_v0) = result m hok c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 5,
      ((h.1 c).1 1).trans (((dats m hok 0 c).arrAt_in 1 rfl _).trans (A_eq m hok c 1)),
      (h.1 c).2 main_arg1 (H0_sub (by decide)),
      ((h.1 c).1 2).trans (((dats m hok 0 c).arrAt_in 2 rfl _).trans (A_eq m hok c 2)),
      ((h.1 c).1 3).trans (((dats m hok 0 c).arrAt_in 3 rfl _).trans (A_eq m hok c 3)),
      ((h.1 c).1 4).trans (((dats m hok 0 c).arrAt_in 4 rfl _).trans (A_eq m hok c 4))⟩, h.2⟩) (run_main m ρ hok)

end Cert.KernelIdeal.Experts

end
-- ==== Proof.Pre.lean ====
/-
  What the precondition says of the indices, and the frames of the two programs under it.
-/
module

public import proofs.«01_k».proof.Proof.Launched
public import proofs.«01_k».proof.Proof.Gen.Kernel
public import proofs.«01_k».proof.Proof.Gen.Pre_tile_rows
public import proofs.«01_k».proof.Kernel
public import Idealize.ShloMosaic.Lib.ReduceAll
public import Idealize.ShloMosaic.Lib.Affine

@[expose] public section

noncomputable section

namespace Cert.Experts

open Idealize.ShloMosaic Idealize.ShloMosaic.TcCoe Idealize.SL.Sem

/-- An index the precondition admits: the first of a token's eight rows. -/
def RowStart (v : BitVec 32) : Prop := 8 ∣ v.toNat ∧ v.toNat ≤ 131064

theorem rowStart_of (v : BitVec 32) (h0 : IntOp.cmpi .sge v 0#32 = 1#1) (h1 : IntOp.cmpi .sle v 131064#32 = 1#1) (u : ArithUnit) (h2 : IntOp.cmpi .eq (IntOp.remsi u v 8#32) 0#32 = 1#1) : RowStart v := by
  rw [IntOp.cmpi_sge, show (0#32 : BitVec 32).toInt = 0 from rfl] at h0
  rw [IntOp.cmpi_sle, show (131064#32 : BitVec 32).toInt = 131064 from rfl] at h1
  have hv : v.toInt = v.toNat := by
    rw [BitVec.toInt_eq_toNat_cond] at h0 ⊢
    split_ifs at h0 ⊢ with h
    · rfl
    · have := v.isLt; omega
  rw [IntOp.cmpi_eq, IntOp.remsi_eq_zero_iff u (by omega) 8 (by decide) (by decide)] at h2
  exact ⟨h2, by omega⟩

theorem pre_rows {F : FTy → Type} [FloatOps F] [Cert.Pre_tile_rows.Facts] (a0 : IVec Pre_tile_rows.S16x1x2048 32) (a1 : FVec F Pre_tile_rows.S131072x128 .f32) (a2 a3 : FVec F Pre_tile_rows.S16x1024x2048 .f32)
    (a4 : FVec F Pre_tile_rows.S16x2048x1024 .f32) (h : Cert.Pre_tile_rows.fn (F := F) a0 a1 a2 a3 a4 = fun _ => 1#1) (x : Pre_tile_rows.S16x1x2048.Idx) : RowStart (a0 x) := by
  have h0 := congrFun h (Shape.Idx.first Pre_tile_rows.Facts.h_S_)
  dsimp only [Cert.Pre_tile_rows.fn] at h0
  have h1 := Host.reduce_andi_all _ _ _ _ _ h0 x
  obtain ⟨h2, h3⟩ := IntOp.andi_eq_one.1 h1
  obtain ⟨h4, h5⟩ := IntOp.andi_eq_one.1 h2
  exact rowStart_of _ h4 h5 _ h3

end Cert.Experts

namespace Cert.KernelIdeal.Experts

open Cert.KernelIdeal
open Idealize.ShloMosaic Idealize.ShloMosaic.TcCoe Idealize.SL.Sem

variable {F : FTy → Type} [FloatOps F] [Facts]

theorem words_ok (m : (ℓ : Loc nD τ sig) → Buf (Elt F) ℓ)
    (h : ∀ (c : Dev nD) (x : S16x1x2048.Idx), Cert.Experts.RowStart ((m ((c.tc : Thread nD τ).loc main_arg0) : S16x1x2048.Idx → BitVec 32) x)) (c : Dev nD) (e : ℕ) : WordsOK (words m c e) :=
  fun j => h c _

end Cert.KernelIdeal.Experts

namespace Cert.Experts

open Idealize.ShloMosaic Idealize.ShloMosaic.TcCoe Idealize.SL.Sem

/-- The frame of the idealized program, over every memory whose indices are row starts. -/
def FrameIdeal (F : FTy → Type) [FloatOps F] [Cert.KernelIdeal.Facts] : Prop :=
  ∀ (m : (ℓ : Loc Cert.KernelIdeal.nD Cert.KernelIdeal.τ Cert.KernelIdeal.sig) → Buf (Elt F) ℓ) (g : Dev Cert.KernelIdeal.nD → PrngReg),
    (∀ (c : Dev Cert.KernelIdeal.nD) (x : Cert.KernelIdeal.S16x1x2048.Idx), RowStart ((m ((c.tc : Thread Cert.KernelIdeal.nD Cert.KernelIdeal.τ).loc Cert.KernelIdeal.main_arg0) : Cert.KernelIdeal.S16x1x2048.Idx → BitVec 32) x)) →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem frame_ideal {F : FTy → Type} [FloatOps F] [Cert.KernelIdeal.Facts] : FrameIdeal F := fun m g h =>
  (θ_run _ _ _).mono (fun _ h => ⟨fun c => (h.1 c).2, h.2⟩) (Cert.KernelIdeal.Experts.run m g (Cert.KernelIdeal.Experts.words_ok m h))

/-- The frame of the program as given, likewise. -/
def FrameBits (F : FTy → Type) [FloatOps F] [Cert.Kernel.Facts] : Prop :=
  ∀ (m : (ℓ : Loc Cert.Kernel.nD Cert.Kernel.τ Cert.Kernel.sig) → Buf (Elt F) ℓ) (g : Dev Cert.Kernel.nD → PrngReg),
    (∀ (c : Dev Cert.Kernel.nD) (x : Cert.Kernel.S16x1x2048.Idx), RowStart ((m ((c.tc : Thread Cert.Kernel.nD Cert.Kernel.τ).loc Cert.Kernel.main_arg0) : Cert.Kernel.S16x1x2048.Idx → BitVec 32) x)) →
    θ_run (Cert.Kernel.defs (F := F)) (onTc (τ := Cert.Kernel.τ) (Cert.Kernel.main (F := F))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

set_option maxRecDepth 100000 in
set_option maxHeartbeats 0 in
/-- The two programs have one text, so the frame of one is the frame of the other. -/
theorem frame_transfer {F : FTy → Type} [FloatOps F] [hK : Cert.Kernel.Facts] [hI : Cert.KernelIdeal.Facts] : FrameIdeal F = FrameBits F := by
  sl_kernel_rfl

end Cert.Experts

end
-- ==== Proof.Values.lean ====
/-
  The arithmetic of a grid point read entry by entry over the extended reals.
-/
module

public import proofs.«01_k».proof.Proof.Launched
public import Idealize.ShloMosaic.Lib.Pointwise.Tactic

@[expose] public section

noncomputable section

namespace Cert.KernelIdeal.Experts

open Cert.KernelIdeal
open Idealize.ShloMosaic Idealize.ShloMosaic.TcCoe Idealize.SL.Sem

variable [Facts]

/-- One hidden unit from its gate and its up product. -/
def unit (a u : EReal) : EReal := a * Ideal.logistic a * u

theorem glu_apply (x : FVec Ideal S1024x1024 .bf16) (a b : FVec Ideal S1024x256 .bf16) (r : Fin 1024) (j : Fin 256) :
    glu x a b (ix2 r j)
      = unit (∑ k : Fin 1024, x (ix2 r k) * a (ix2 k j)) (∑ k : Fin 1024, x (ix2 r k) * b (ix2 k j)) := by
  unfold glu unit
  pointwise

theorem hidden_apply (x : FVec Ideal S1024x1024 .bf16) (wg wu : FVec Ideal S1024x512 .bf16) (r : Fin 1024) (j : Fin 512) :
    hidden x wg wu (ix2 r j)
      = unit (∑ k : Fin 1024, x (ix2 r k) * wg (ix2 k j)) (∑ k : Fin 1024, x (ix2 r k) * wu (ix2 k j)) := by
  unfold hidden
  pointwise
  split_ifs with h
  · rw [glu_apply]
    pointwise
  · rw [glu_apply]
    pointwise
    simp only [show 256 + (j.val - 256) = j.val by omega]
  · exact absurd rfl ‹_›

theorem block_apply (x : FVec Ideal S1024x1024 .bf16) (wg wu : FVec Ideal S1024x512 .bf16) (wd : FVec Ideal S512x1024 .bf16) (r d : Fin 1024) :
    block x wg wu wd (ix2 r d) = ∑ j : Fin 512, hidden x wg wu (ix2 r j) * wd (ix2 j d) := by
  unfold block
  pointwise

theorem outFirst_apply (x : FVec Ideal S1024x1024 .bf16) (wg wu : FVec Ideal S1024x512 .bf16) (wd : FVec Ideal S512x1024 .bf16) (r d : Fin 1024) :
    outFirst x wg wu wd (ix3 0 r d) = block x wg wu wd (ix2 r d) := by
  unfold outFirst
  pointwise

theorem outLater_apply (x : FVec Ideal S1024x1024 .bf16) (wg wu : FVec Ideal S1024x512 .bf16) (wd : FVec Ideal S512x1024 .bf16)
    (y : Vec Ideal S1x1024x1024 .f32) (r d : Fin 1024) :
    outLater x wg wu wd y (ix3 0 r d) = y (ix3 0 r d) + block x wg wu wd (ix2 r d) := by
  unfold outLater
  pointwise

/-- An entry of the gathered buffer, by the token it came from. -/
theorem entry (w : Fin 2048 → BitVec 32) (T : S131072x128.Idx → EReal) {p : ℕ} {l : Fin 128} {k : Fin 1024} {i : Fin 2048}
    (hp : p = 8 * i.val + k.val / 128) (hl : l.val = k.val % 128) (h : p % 16384 / 8 < 2048) :
    T (tabIx ((w ⟨p % 16384 / 8, h⟩).toNat + p % 16384 % 8) l) = T (tabIx ((w i).toNat + k.val / 128) ⟨k.val % 128, Nat.mod_lt _ (by decide)⟩) := by
  have hi : (⟨p % 16384 / 8, h⟩ : Fin 2048) = i := Fin.ext (show p % 16384 / 8 = i.val by omega)
  have hl' : l = ⟨k.val % 128, Nat.mod_lt _ (by decide)⟩ := Fin.ext hl
  rw [hi, hl', show p % 16384 % 8 = k.val / 128 by omega]

theorem xOf_apply (w : Fin 2048 → BitVec 32) (T : S131072x128.Idx → EReal) (b : ℕ) (r k : Fin 1024) (i : Fin 2048) (hi : b + 8 * r.val = 8 * i.val) :
    xOf (F := Ideal) w T b (ix2 r k) = T (tabIx ((w i).toNat + k.val / 128) ⟨k.val % 128, Nat.mod_lt _ (by decide)⟩) := by
  unfold xOf rowsOf col
  pointwise [colOf, gatheredBuf]
  split_ifs <;>
  · refine entry w T (l := ⟨_, _⟩) (by omega) ?_ _
    dsimp only
    omega

theorem wIn_apply (w : Vec Ideal S1x1024x512 .f32) (k : Fin 1024) (j : Fin 512) : wIn w (ix2 k j) = w (ix3 0 k j) := by
  unfold wIn
  pointwise

theorem wOut_apply (w : Vec Ideal S1x512x1024 .f32) (j : Fin 512) (d : Fin 1024) : wOut w (ix2 j d) = w (ix3 0 j d) := by
  unfold wOut
  pointwise

/-- What hidden unit `f` of expert `e` adds to output column `d` of a token with the vector `X`. -/
def term (X : Fin 1024 → EReal) (Wg Wu : S16x1024x2048.Idx → EReal) (Wd : S16x2048x1024.Idx → EReal) (e : Fin 16) (d : Fin 1024) (f : Fin 2048) : EReal :=
  unit (∑ k : Fin 1024, X k * Wg (ix3 e k f)) (∑ k : Fin 1024, X k * Wu (ix3 e k f)) * Wd (ix3 e f d)

variable (m : (ℓ : Loc nD τ sig) → Buf (Elt Ideal) ℓ) (c : Dev nD)

/-- Entry `k` of the vector of the token that expert `e`'s list names at `i`. -/
def token (e : ℕ) (i : Fin 2048) (k : Fin 1024) : EReal :=
  tab m c (tabIx ((words m c e i).toNat + k.val / 128) ⟨k.val % 128, Nat.mod_lt _ (by decide)⟩)

theorem pt_val {p : ℕ} (h : p < 64) : (pt p).val = p := Nat.mod_eq_of_lt h

theorem gate_block (e : Fin 16) (g : Fin 4) (k : Fin 1024) (j : Fin 512) (f : Fin 2048) (hf : f.val = g.val * 512 + j.val) :
    iblk m c 2 (pt (4 * e.val + g.val)) (ix3 (0 : Fin 1) k j) = (V m c main_arg2 : S16x1024x2048.Idx → EReal) (ix3 e k f) := by
  have hp : (pt (4 * e.val + g.val)).val = 4 * e.val + g.val := pt_val (by omega)
  blk_ext [iblk, V]
  · show win0_2.index (pt (4 * e.val + g.val)) 0 + 0 = e.val
    rw [congrFun (index2 _) 0]
    show (pt (4 * e.val + g.val)).val / 4 + 0 = e.val
    omega
  · show win0_2.index (pt (4 * e.val + g.val)) 1 * 1024 + k.val = k.val
    rw [congrFun (index2 _) 1]
    show 0 * 1024 + k.val = k.val
    omega
  · show win0_2.index (pt (4 * e.val + g.val)) 2 * 512 + j.val = f.val
    rw [congrFun (index2 _) 2]
    show (pt (4 * e.val + g.val)).val % 4 * 512 + j.val = f.val
    omega

theorem up_block (e : Fin 16) (g : Fin 4) (k : Fin 1024) (j : Fin 512) (f : Fin 2048) (hf : f.val = g.val * 512 + j.val) :
    iblk m c 3 (pt (4 * e.val + g.val)) (ix3 (0 : Fin 1) k j) = (V m c main_arg3 : S16x1024x2048.Idx → EReal) (ix3 e k f) := by
  have hp : (pt (4 * e.val + g.val)).val = 4 * e.val + g.val := pt_val (by omega)
  blk_ext [iblk, V]
  · show win0_3.index (pt (4 * e.val + g.val)) 0 + 0 = e.val
    rw [congrFun (index3 _) 0]
    show (pt (4 * e.val + g.val)).val / 4 + 0 = e.val
    omega
  · show win0_3.index (pt (4 * e.val + g.val)) 1 * 1024 + k.val = k.val
    rw [congrFun (index3 _) 1]
    show 0 * 1024 + k.val = k.val
    omega
  · show win0_3.index (pt (4 * e.val + g.val)) 2 * 512 + j.val = f.val
    rw [congrFun (index3 _) 2]
    show (pt (4 * e.val + g.val)).val % 4 * 512 + j.val = f.val
    omega

theorem down_block (e : Fin 16) (g : Fin 4) (j : Fin 512) (d : Fin 1024) (f : Fin 2048) (hf : f.val = g.val * 512 + j.val) :
    iblk m c 4 (pt (4 * e.val + g.val)) (ix3 (0 : Fin 1) j d) = (V m c main_arg4 : S16x2048x1024.Idx → EReal) (ix3 e f d) := by
  have hp : (pt (4 * e.val + g.val)).val = 4 * e.val + g.val := pt_val (by omega)
  blk_ext [iblk, V]
  · show win0_4.index (pt (4 * e.val + g.val)) 0 + 0 = e.val
    rw [congrFun (index4 _) 0]
    show (pt (4 * e.val + g.val)).val / 4 + 0 = e.val
    omega
  · show win0_4.index (pt (4 * e.val + g.val)) 1 * 512 + j.val = f.val
    rw [congrFun (index4 _) 1]
    show (pt (4 * e.val + g.val)).val % 4 * 512 + j.val = f.val
    omega
  · show win0_4.index (pt (4 * e.val + g.val)) 2 * 1024 + d.val = d.val
    rw [congrFun (index4 _) 2]
    show 0 * 1024 + d.val = d.val
    omega

/-- What the hidden units of quarter `g` add. -/
def quarter (X : Fin 1024 → EReal) (Wg Wu : S16x1024x2048.Idx → EReal) (Wd : S16x2048x1024.Idx → EReal) (e : Fin 16) (d : Fin 1024) (g : ℕ) : EReal :=
  ∑ j : Fin 512, term X Wg Wu Wd e d ⟨(g * 512 + j.val) % 2048, Nat.mod_lt _ (by decide)⟩

theorem quarters (X : Fin 1024 → EReal) (Wg Wu : S16x1024x2048.Idx → EReal) (Wd : S16x2048x1024.Idx → EReal) (e : Fin 16) (d : Fin 1024) :
    ∑ g ∈ Finset.range 4, quarter X Wg Wu Wd e d g = ∑ f : Fin 2048, term X Wg Wu Wd e d f := by
  rw [Finset.sum_range]
  exact Fin.sum_mul_add_congr (f := term X Wg Wu Wd e d) fun s k hl => congrArg (term X Wg Wu Wd e d) (Fin.ext (Nat.mod_eq_of_lt hl))

theorem block_quarter (e : Fin 16) (g : Fin 4) (x : FVec Ideal S1024x1024 .bf16) (X : Fin 1024 → EReal) (r d : Fin 1024) (hx : ∀ k, x (ix2 r k) = X k) :
    block x (wIn (iblk m c 2 (pt (4 * e.val + g.val)))) (wIn (iblk m c 3 (pt (4 * e.val + g.val)))) (wOut (iblk m c 4 (pt (4 * e.val + g.val)))) (ix2 r d)
      = quarter X (V m c main_arg2) (V m c main_arg3) (V m c main_arg4) e d g.val := by
  rw [block_apply]
  refine Finset.sum_congr rfl fun j _ => ?_
  have hf : (⟨(g.val * 512 + j.val) % 2048, Nat.mod_lt _ (by decide)⟩ : Fin 2048).val = g.val * 512 + j.val := Nat.mod_eq_of_lt (by omega)
  have hg : ∀ k, wIn (iblk m c 2 (pt (4 * e.val + g.val))) (ix2 k j) = (V m c main_arg2 : S16x1024x2048.Idx → EReal) (ix3 e k _) :=
    fun k => (wIn_apply _ k j).trans (gate_block m c e g k j _ hf)
  have hu : ∀ k, wIn (iblk m c 3 (pt (4 * e.val + g.val))) (ix2 k j) = (V m c main_arg3 : S16x1024x2048.Idx → EReal) (ix3 e k _) :=
    fun k => (wIn_apply _ k j).trans (up_block m c e g k j _ hf)
  have hd : wOut (iblk m c 4 (pt (4 * e.val + g.val))) (ix2 j d) = (V m c main_arg4 : S16x2048x1024.Idx → EReal) (ix3 e _ d) :=
    (wOut_apply _ j d).trans (down_block m c e g j d _ hf)
  rw [hidden_apply, hd]
  simp only [hx, hg, hu]
  rfl

theorem chunk_apply (e : Fin 16) (b : ℕ) (r d : Fin 1024) (i : Fin 2048) (hi : b + 8 * r.val = 8 * i.val) (n : ℕ) (hn : n < 4) :
    chunkY m c e.val b n (ix3 (0 : Fin 1) r d)
      = ∑ g ∈ Finset.range (n + 1), quarter (token m c e.val i) (V m c main_arg2) (V m c main_arg3) (V m c main_arg4) e d g := by
  have hx : ∀ k, xOf (words m c e.val) (tab m c) b (ix2 r k) = token m c e.val i k := fun k => xOf_apply _ _ b r k i hi
  induction n with
  | zero =>
    rw [chunkY_zero, outFirst_apply, Finset.sum_range_one]
    exact block_quarter m c e 0 _ _ r d hx
  | succ n ih =>
    rw [chunkY_succ, outLater_apply, ih (by omega), Finset.sum_range_succ _ (n + 1)]
    exact congrArg (_ + ·) (block_quarter m c e ⟨n + 1, hn⟩ _ _ r d hx)

/-- What the experts leave: each token's vector through its expert. -/
def answer : S16x2048x1024.Idx → EReal := fun x =>
  ∑ f : Fin 2048, term (token m c (x 0).val (x 1)) (V m c main_arg2) (V m c main_arg3) (V m c main_arg4) (x 0) (x 2) f

theorem outY_apply (t : ℕ) (h3 : t % 4 = 3) (e : Fin 16) (he : t / 4 = e.val) (i : Fin 2048) (d : Fin 1024) :
    outY m c t (ix3 (0 : Fin 1) i d) = answer m c (ix3 e i d) := by
  unfold outY twoChunks
  rw [h3, he]
  refine Eq.trans ?_ (quarters (token m c e.val i) (V m c main_arg2) (V m c main_arg3) (V m c main_arg4) e d)
  by_cases h : i.val < 1024
  · exact (dif_pos (show ((ix3 (0 : Fin 1) i d : S1x2048x1024.Idx) 1).val < 1024 from h)).trans (chunk_apply m c e 0 ⟨i.val, h⟩ d i (by show 0 + 8 * i.val = _; omega) 3 (by decide))
  · exact (dif_neg (show ¬((ix3 (0 : Fin 1) i d : S1x2048x1024.Idx) 1).val < 1024 from h)).trans
      (chunk_apply m c e 8192 ⟨i.val - 1024, by omega⟩ d i (by show 8192 + 8 * (i.val - 1024) = _; omega) 3 (by decide))

variable (hok : ∀ c e, WordsOK (words m c e))

theorem flush5 : ∀ t : Fin grid0.N, win0_5.flush t = true → t.val % 4 = 3 := by decide +kernel

theorem covers5 : win0_5.Covers := by decide +kernel

theorem result_eq : result m hok c = answer m c := by
  refine (dats m hok 0 c).arrAt_eq_of_covers 5 _ covers5 fun t hf y => ?_
  have h3 := flush5 t hf
  blk_simp
  rw [after_5]
  have ht : t.val < 64 := t.isLt.trans_eq N_eq
  obtain ⟨a, i, d, rfl⟩ : ∃ (a : Fin 1) (i : Fin 2048) (d : Fin 1024), y = (ix3 a i d : S1x2048x1024.Idx) := ⟨_, _, _, eq_ix3 (show S1x2048x1024.Idx from y)⟩
  obtain rfl : a = 0 := Subsingleton.elim _ _
  have he : ((cfg0.win 5).blk t).view.emb (ix3 (0 : Fin 1) i d : S1x2048x1024.Idx) = (ix3 (⟨t.val / 4, by omega⟩ : Fin 16) i d : S16x2048x1024.Idx) := funext fun a => Fin.ext (by
    fin_cases a
    · blk_simp
      exact congrFun (index5 t) 0
    · blk_simp
      show win0_5.index t 1 * 2048 + i.val = i.val
      rw [congrFun (index5 t) 1]
      show 0 * 2048 + i.val = i.val
      omega
    · blk_simp
      show win0_5.index t 2 * 1024 + d.val = d.val
      rw [congrFun (index5 t) 2]
      show 0 * 1024 + d.val = d.val
      omega)
  exact (outY_apply m c t.val h3 ⟨t.val / 4, by omega⟩ rfl i d).trans (congrArg (answer m c) he.symm)

end Cert.KernelIdeal.Experts

end
-- ==== Proof.RefValues.lean ====
/-
  The reference's result read entry by entry over the extended reals.
-/
module

public import proofs.«01_k».proof.Proof.Values
public import proofs.«01_k».proof.Proof.Pre
public import proofs.«01_k».proof.Proof.Gen.ReferenceIdeal.Run
public import Idealize.ShloMosaic.Lib.Pointwise.Tactic
public import Idealize.ShloMosaic.Lib.Routing.Words

@[expose] public section

noncomputable section

namespace Cert.ReferenceIdeal.Value

open Cert.ReferenceIdeal Cert.ReferenceIdeal.Gen
open Idealize.ShloMosaic Idealize.ShloMosaic.TcCoe Idealize.SL.Sem

/-- The rows of a table that a matrix of row numbers names. -/
theorem gather_rows (x : S16384x1024.Idx → EReal) (idx : IVec S16x2048x1 32) (e : Fin 16) (r : Fin 2048) (k : Fin 1024) (b : Fin 16384)
    (hb : idx (ix3 e r 0) = BitVec.ofNat 32 b.val) :
    Host.gather gather_S16384x1024_S16x2048x1_S16x2048x1024_2_0_n_n_0_2_11024 x idx (ix3 e r k) = x (ix2 b k) := by
  have hv : (BitVec.ofNat 32 b.val).toInt.toNat = b.val := by
    have h : (BitVec.ofNat 32 b.val).toNat = b.val := Nat.mod_eq_of_lt (by omega)
    rw [BitVec.toInt_eq_toNat_of_lt (by omega), h]
    rfl
  refine congrArg x (funext fun a => Fin.ext ?_)
  fin_cases a
  · refine (show _ = min (idx (ix3 e r 0)).toInt.toNat 16383 from ?_).trans (by rw [hb, hv]; exact Nat.min_eq_left (by omega))
    refine congrArg (fun z => min (idx z).toInt.toNat 16383) (funext fun a => ?_)
    fin_cases a <;> rfl
  · exact Nat.zero_add k.val

/-- The row numbers that the reference makes of the indices. -/
def rowIdx (a0 : S16x1x2048.Idx → BitVec 32) : IVec S16x2048x1 32 :=
  broadcastInDim S16x2048x1 ![0, 1] bcast_S16x2048_S16x2048x1_0_1 (select (cmpi .slt (Host.divsi (shapeCast _ a0 shapeCasts_S16x1x2048_S16x2048) (broadcastInDim S16x2048 ![] bcast_S_S16x2048 (constantI S_ 32 8#32))) (broadcastInDim S16x2048 ![] bcast_S_S16x2048 (constantI S_ 32 0#32))) (addi (Host.divsi (shapeCast _ a0 shapeCasts_S16x1x2048_S16x2048) (broadcastInDim S16x2048 ![] bcast_S_S16x2048 (constantI S_ 32 8#32))) (broadcastInDim S16x2048 ![] bcast_S_S16x2048 (constantI S_ 32 16384#32))) (Host.divsi (shapeCast _ a0 shapeCasts_S16x1x2048_S16x2048) (broadcastInDim S16x2048 ![] bcast_S_S16x2048 (constantI S_ 32 8#32))))

theorem rowIdx_apply (a0 : S16x1x2048.Idx → BitVec 32) (e : Fin 16) (r : Fin 2048) (h : Cert.Experts.RowStart (a0 (ix3 e 0 r))) :
    rowIdx a0 (ix3 e r 0) = BitVec.ofNat 32 ((a0 (ix3 e 0 r)).toNat / 8) := by
  unfold rowIdx
  pointwise
  obtain ⟨h8, hle⟩ := h
  generalize a0 (ix3 e 0 r) = v at h8 hle ⊢
  have hd : IntOp.divsi .host v 8#32 = BitVec.ofNat 32 (v.toNat / 8) := by
    have := Routing.divsi_word .host (a := v.toNat) (b := 8) (by omega) (by decide) (by decide)
    rwa [BitVec.ofNat_toNat, BitVec.setWidth_eq] at this
  have hn : (BitVec.ofNat 32 (v.toNat / 8)).toNat = v.toNat / 8 := Nat.mod_eq_of_lt (by omega)
  rw [hd]
  exact if_neg fun h => by
    have := (IntOp.cmpi_slt (w := 32)).1 h
    rw [BitVec.toInt_eq_toNat_of_lt (by omega), show (0#32 : BitVec 32).toInt = 0 from rfl] at this
    omega

/-- The gathered vectors, each as its token's. -/
def rows (a0 : S16x1x2048.Idx → BitVec 32) (a1 : S131072x128.Idx → EReal) : FVec Ideal S16x2048x1024 .f32 :=
  Host.gather gather_S16384x1024_S16x2048x1_S16x2048x1024_2_0_n_n_0_2_11024 (shapeCast S16384x1024 a1 shapeCasts_S131072x128_S16384x1024) (rowIdx a0)

theorem rows_apply (a0 : S16x1x2048.Idx → BitVec 32) (a1 : S131072x128.Idx → EReal) (e : Fin 16) (r : Fin 2048) (k : Fin 1024)
    (h : Cert.Experts.RowStart (a0 (ix3 e 0 r))) :
    rows a0 a1 (ix3 e r k) = a1 (Cert.KernelIdeal.Experts.tabIx ((a0 (ix3 e 0 r)).toNat + k.val / 128) ⟨k.val % 128, Nat.mod_lt _ (by decide)⟩) := by
  unfold rows
  rw [gather_rows _ _ e r k ⟨(a0 (ix3 e 0 r)).toNat / 8, by have := h.2; omega⟩ (rowIdx_apply a0 e r h)]
  pointwise
  obtain ⟨h8, hle⟩ := h
  exact congrArg a1 (congrArg (fun p : Fin 131072 => ix2 p _) (Fin.ext (by
    show (a0 (ix3 e 0 r)).toNat / 8 * 8 + k.val / 128 = ((a0 (ix3 e 0 r)).toNat + k.val / 128) % 131072
    omega)))

/-- The reference's result. -/
def out (x : FVec Ideal S16x2048x1024 .f32) (a2 a3 : FVec Ideal S16x1024x2048 .f32) (a4 : FVec Ideal S16x2048x1024 .f32) : FVec Ideal S16x2048x1024 .f32 :=
  Host.dotGeneral dot_S16x2048x2048_S16x2048x1024_S16x2048x1024_2_1_1_2_0_0 none
    (mulf (mulf (Host.dotGeneral dot_S16x2048x1024_S16x1024x2048_S16x2048x2048_2_1_1_2_0_0 none x a2)
        (Host.divf (broadcastInDim S16x2048x2048 ![] bcast_S_S16x2048x2048 (constant S_ .f32 0x3F800000#32))
          (addf (broadcastInDim S16x2048x2048 ![] bcast_S_S16x2048x2048 (constant S_ .f32 0x3F800000#32))
            (Host.exp (Host.negf (Host.dotGeneral dot_S16x2048x1024_S16x1024x2048_S16x2048x2048_2_1_1_2_0_0 none x a2))))))
      (Host.dotGeneral dot_S16x2048x1024_S16x1024x2048_S16x2048x2048_2_1_1_2_0_0 none x a3)) a4

theorem out_apply (x : FVec Ideal S16x2048x1024 .f32) (a2 a3 : FVec Ideal S16x1024x2048 .f32) (a4 : FVec Ideal S16x2048x1024 .f32) (e : Fin 16) (r : Fin 2048) (d : Fin 1024) :
    out x a2 a3 a4 (ix3 e r d) = ∑ f : Fin 2048, Cert.KernelIdeal.Experts.term (fun k => x (ix3 e r k)) a2 a3 a4 e d f := by
  unfold out Cert.KernelIdeal.Experts.term Cert.KernelIdeal.Experts.unit
  pointwise
  rfl

/-- The reference's result at the kernel's arguments is what the experts leave. -/
theorem out_eq [Cert.KernelIdeal.Facts] (m : (ℓ : Loc Cert.KernelIdeal.nD Cert.KernelIdeal.τ Cert.KernelIdeal.sig) → Buf (Elt Ideal) ℓ) (c : Dev Cert.KernelIdeal.nD)
    (h : ∀ x : Cert.KernelIdeal.S16x1x2048.Idx, Cert.Experts.RowStart ((Cert.KernelIdeal.Experts.V m c Cert.KernelIdeal.main_arg0 : Cert.KernelIdeal.S16x1x2048.Idx → BitVec 32) x)) :
    out (rows (Cert.KernelIdeal.Experts.V m c Cert.KernelIdeal.main_arg0) (Cert.KernelIdeal.Experts.V m c Cert.KernelIdeal.main_arg1))
        (Cert.KernelIdeal.Experts.V m c Cert.KernelIdeal.main_arg2) (Cert.KernelIdeal.Experts.V m c Cert.KernelIdeal.main_arg3) (Cert.KernelIdeal.Experts.V m c Cert.KernelIdeal.main_arg4)
      = Cert.KernelIdeal.Experts.answer m c := by
  funext x
  obtain ⟨e, r, d, rfl⟩ : ∃ (e : Fin 16) (r : Fin 2048) (d : Fin 1024), x = ix3 e r d := ⟨_, _, _, eq_ix3 x⟩
  rw [out_apply]
  have hx : (fun k => rows (Cert.KernelIdeal.Experts.V m c Cert.KernelIdeal.main_arg0) (Cert.KernelIdeal.Experts.V m c Cert.KernelIdeal.main_arg1) (ix3 e r k))
      = Cert.KernelIdeal.Experts.token m c e.val r := funext fun k => by
    rw [rows_apply _ _ e r k (h _)]
    unfold Cert.KernelIdeal.Experts.token Cert.KernelIdeal.Experts.words
    have he : (⟨min e.val 15, by omega⟩ : Fin 16) = e := Fin.ext (show min e.val 15 = e.val by omega)
    rw [he]
    rfl
  rw [hx]
  rfl

theorem run_out (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v15)
        = out (rows (m ((c.tc : Thread nD τ).loc main_arg0)) (m ((c.tc : Thread nD τ).loc main_arg1))) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  run m ρ

end Cert.ReferenceIdeal.Value

end
-- ==== Proof.ProjMath.lean ====
/-
  The input projections in plain arithmetic over the extended reals: root mean square normalization with a gain,
  the product with the weights, and the partial rotation of a head's first sixteen lanes.
-/
module

public import Idealize.ShloMosaic.PureOps.Ideal
public import Idealize.ShloMosaic.Lib.Pointwise

@[expose] public section

noncomputable section

namespace Cert.Projections

open Idealize.ShloMosaic

/-- Row `t` of `x`, normalized by its root mean square and scaled by the gain, at column `k`. -/
def hn {N : ℕ} (x : Fin N → Fin 1024 → EReal) (g : Fin 1024 → EReal) (t : Fin N) (k : Fin 1024) : EReal :=
  x t k * Ideal.rsqrt (Ideal.div (∑ q, x t q * x t q) (Ideal.ofBits FTy.f32 1149239296#32) + Ideal.ofBits FTy.f32 897988541#32) * g k

/-- Column `n` (counted round past the last) of the product of the normalized row `t` with the weights. -/
def col {N : ℕ} (x : Fin N → Fin 1024 → EReal) (g : Fin 1024 → EReal) (w : Fin 1024 → Fin 2304 → EReal) (t : Fin N) (n : ℕ) : EReal :=
  ∑ k, hn x g t k * w k ⟨n % 2304, Nat.mod_lt _ (by decide)⟩

/-- The angle at position `s` and frequency `f`. -/
def angle (s f : ℕ) : EReal :=
  FloatOps.sitofp (F := Ideal) FTy.f32 (BitVec.ofNat 32 s) * Ideal.pow (Ideal.ofBits FTy.f32 1223959552#32)
    (Ideal.div (-(Ideal.ofBits FTy.f32 1073741824#32 * FloatOps.sitofp (F := Ideal) FTy.f32 (BitVec.ofNat 32 f)))
      (Ideal.ofBits FTy.f32 1098907648#32))

/-- Lane `j` of a head that starts at column `base`, its first sixteen lanes rotated in two halves of eight. -/
def rot (p : ℕ → EReal) (s base j : ℕ) : EReal :=
  if j < 8 then p (base + j) * Ideal.cos (angle s j) - p (base + j + 8) * Ideal.sin (angle s j)
  else if j < 16 then p (base + j) * Ideal.cos (angle s (j - 8)) + p (base + j - 8) * Ideal.sin (angle s (j - 8))
  else p (base + j)

/-- One slab of 128 lanes turned by tables: the lane itself by `c`, the lane eight on by `a`, the lane eight back by `b`. -/
def turned (p : ℕ → EReal) (c a b : Fin 128 → EReal) (base : ℕ) (l : Fin 128) : EReal :=
  p (base + l.val) * c l + p (base + (l.val + 8) % 128) * a l + p (base + (l.val + 120) % 128) * b l

end Cert.Projections

end
-- ==== Proof.ProjBody.lean ====
/-
  What one grid point of the projections' kernel writes, entry by entry over the extended reals.
-/
module

public import proofs.«01_k».proof.Proof.Gen.Kernel2Ideal.Value
public import proofs.«01_k».proof.Proof.ProjMath
public import Idealize.ShloMosaic.Lib.Pointwise
public import Idealize.ShloMosaic.Lib.Pipeline.ValueKit.Point

@[expose] public section

noncomputable section

namespace Cert.Kernel2Ideal.Projections

open Cert.Kernel2Ideal Cert.Kernel2Ideal.Gen Cert.Projections
open Idealize.ShloMosaic Idealize.ShloMosaic.TcCoe Idealize.SL.Sem

/-- The projected columns of row `r` of a block. -/
def cols (x0 : FVec Ideal S1024x1024 .f32) (x1 : FVec Ideal S1x1024 .f32) (xs : FVec Ideal S1024x2304 .bf16) (r : Fin 1024) : ℕ → EReal :=
  col (fun t k => x0 (ix2 t k)) (fun k => x1 (ix2 0 k)) (fun k n => xs (ix2 k n)) r

/-- Row `r` of a table. -/
def row (x : FVec Ideal S1024x128 .f32) (r : Fin 1024) : Fin 128 → EReal := fun l => x (ix2 r l)

theorem pay9_apply (x0 : FVec Ideal S1024x1024 .f32) (x1 : FVec Ideal S1x1024 .f32) (r k : Fin 1024) :
    (k0_pay9 (F := Ideal) x0 x1 (ix2 r k) : EReal) = hn (fun t k => x0 (ix2 t k)) (fun k => x1 (ix2 0 k)) r k := by
  unfold k0_pay9
  pointwise
  rfl

/-- Columns `o` to `o + 256` of the weights. -/
theorem load_apply (xs : FVec Ideal S1024x2304 .bf16) (o : ℕ) (inb : ∀ a, (![0, o] : Fin 2 → ℕ) a + S1024x256.size a ≤ S1024x2304.size a) (k : Fin 1024) (n : Fin 256)
    (hn : o + n.val < 2304) :
    View.ld (Val := Elt Ideal) (e' := .bf16) xs (Rect.unit (s := S1024x2304) ![0, o] S1024x256.size inb) (ix2 k n) = xs (ix2 k ⟨o + n.val, hn⟩) := by
  pointwise

theorem product_apply (h : FVec Ideal S1024x1024 .bf16) (w : FVec Ideal S1024x256 .bf16) (r : Fin 1024) (n : Fin 256) :
    matmul dot_S1024x1024_S1024x256_S1024x256_1_0_0_1_n_n none h w (constant (F := Ideal) S1024x256 .f32 0x00000000#32) (ix2 r n) =
      ∑ k : Fin 1024, h (ix2 r k) * w (ix2 k n) := by
  pointwise

/-- A slab turned by three tables. -/
def turn (T c a b : FVec Ideal S1024x128 .f32) : FVec Ideal S1024x128 .f32 :=
  addf (addf (mulf T c) (mulf (dynamicRotate 1 120#32 none T rotates_S1024x128_d1) a)) (mulf (dynamicRotate 1 8#32 none T rotates_S1024x128_d1) b)

theorem turn_apply (T c a b : FVec Ideal S1024x128 .f32) (p : ℕ → EReal) (base : ℕ) (r : Fin 1024)
    (hT : ∀ l : Fin 128, T (ix2 r l) = p (base + l.val)) (l : Fin 128) :
    turn T c a b (ix2 r l) = turned p (row c r) (row a r) (row b r) base l := by
  unfold turn
  pointwise
  simp only [hT]
  rfl

theorem cast_slab {α : Type} (v : S1024x128.Idx → α) (h : S1024x128.ShapeCasts S1x1024x128) (u : Fin 1) (r : Fin 1024) (l : Fin 128) :
    shapeCast S1x1024x128 v h (ix3 u r l) = v (ix2 r l) := by
  pointwise

theorem q_scale : Named.named (F := Ideal) κ "q_scale" (φ := .f32) 0x3E38AA3B#32 = (((8 * Real.log 2)⁻¹ : ℝ) : EReal) :=
  IdealRules.named_const.ideal_named_scalar _ _ _ _ rfl

theorem load_sum (x0 : FVec Ideal S1024x1024 .f32) (x1 : FVec Ideal S1x1024 .f32) (xs : FVec Ideal S1024x2304 .bf16) (o : ℕ)
    (inb : ∀ a, (![0, o] : Fin 2 → ℕ) a + S1024x256.size a ≤ S1024x2304.size a) (ho : o + 256 ≤ 2304) (r : Fin 1024) (n : Fin 256) :
    (∑ k : Fin 1024, (k0_pay9 (F := Ideal) x0 x1 (ix2 r k) : EReal) *
        (View.ld (Val := Elt Ideal) (e' := .bf16) xs (Rect.unit (s := S1024x2304) ![0, o] S1024x256.size inb) (ix2 k n) : EReal)) =
      cols x0 x1 xs r (o + n.val) := by
  unfold cols col
  refine Finset.sum_congr rfl fun k _ => ?_
  have hn : o + n.val < 2304 := by omega
  rw [pay9_apply, load_apply xs o inb k n hn]
  have e : (⟨o + n.val, hn⟩ : Fin 2304) = ⟨(o + n.val) % 2304, Nat.mod_lt _ (by norm_num)⟩ := Fin.ext (Nat.mod_eq_of_lt hn).symm
  rw [e]

section Slabs

variable (h : FVec Ideal S1024x1024 .bf16) (w : FVec Ideal S1024x256 .bf16) (c a b : FVec Ideal S1024x128 .f32) (p : ℕ → EReal) (o : ℕ) (r : Fin 1024)

theorem slice0_apply (hp : ∀ n : Fin 256, (∑ k : Fin 1024, h (ix2 r k) * w (ix2 k n)) = p (o + n.val)) (l : Fin 128) :
    extractStridedSlice S1024x128 ![0, 0]
      (matmul dot_S1024x1024_S1024x256_S1024x256_1_0_0_1_n_n none h w (constant (F := Ideal) S1024x256 .f32 0x00000000#32))
      slices_S1024x256_o0_0_S1024x128 (ix2 r l) = p (o + l.val) :=
  (show _ = _ by pointwise).trans (hp ⟨l.val, by omega⟩)

theorem slice1_apply (hp : ∀ n : Fin 256, (∑ k : Fin 1024, h (ix2 r k) * w (ix2 k n)) = p (o + n.val)) (l : Fin 128) :
    extractStridedSlice S1024x128 ![0, 128]
      (matmul dot_S1024x1024_S1024x256_S1024x256_1_0_0_1_n_n none h w (constant (F := Ideal) S1024x256 .f32 0x00000000#32))
      slices_S1024x256_o0_128_S1024x128 (ix2 r l) = p (o + 128 + l.val) :=
  ((show _ = _ by pointwise).trans (hp ⟨128 + l.val, by omega⟩)).trans (congrArg p (Nat.add_assoc _ _ _).symm)

end Slabs

theorem emb_slab {n a : ℕ} (ha : a < n) (inb : ∀ d, (![a, 0, 0] : Fin 3 → ℕ) d + S1x1024x128.size d ≤ (⟨3, ![n, 1024, 128]⟩ : Shape).size d)
    (u : Fin 1) (r : Fin 1024) (l : Fin 128) :
    (Rect.unit (s := ⟨3, ![n, 1024, 128]⟩) ![a, 0, 0] S1x1024x128.size inb).emb (ix3 u r l) = ix3 ⟨a, ha⟩ r l := by
  funext d
  apply Fin.ext
  rw [Rect.emb_apply]
  fin_cases d
  · show a + 1 * u.val = a
    omega
  · show 0 + 1 * r.val = r.val
    omega
  · show 0 + 1 * l.val = l.val
    omega

theorem pay10_eq (x : FVec Ideal S1024x128 .f32) : k0_pay10 x = x := by
  funext y; obtain ⟨r, l, rfl⟩ : ∃ r l, y = ix2 r l := ⟨y 0, y 1, eq_ix2 y⟩
  unfold k0_pay10; pointwise

theorem pay11_eq (x : FVec Ideal S1024x128 .f32) : k0_pay11 x = x := pay10_eq x

theorem pay12_eq (x : FVec Ideal S1024x128 .f32) : k0_pay12 x = x := pay10_eq x

theorem lane_below : ∀ l : Fin 128, IntOp.cmpi .slt (BitVec.ofNat 32 l.val) 64#32 = if l.val < 64 then 1#1 else 0#1 := by
  decide

theorem mask_apply (r : Fin 1024) (l : Fin 128) (X Y : FVec Ideal S1024x128 .f32) :
    select k0_pay24 X Y (ix2 r l) = if l.val < 64 then X (ix2 r l) else Y (ix2 r l) := by
  unfold k0_pay24
  pointwise
  rw [lane_below]
  split_ifs
  · exact if_pos rfl
  · exact if_neg (by decide)

/-- The lane of half `a` that lane `l` of a doubled head reads. -/
def half (a : Fin 2) (l : Fin 128) : Fin 128 := ⟨64 * a.val + l.val % 64, by omega⟩

section Stores

variable (h : FVec Ideal S1024x1024 .bf16) (w : FVec Ideal S1024x256 .bf16) (c a b : FVec Ideal S1024x128 .f32) (p : ℕ → EReal) (o : ℕ) (r : Fin 1024)
  (hp : ∀ n : Fin 256, (∑ k : Fin 1024, h (ix2 r k) * w (ix2 k n)) = p (o + n.val)) (u : Fin 1) (l : Fin 128)

include hp

theorem store18 : k0_pay18 h c a b w (ix3 u r l) = turned p (row c r) (row a r) (row b r) o l * (((8 * Real.log 2)⁻¹ : ℝ) : EReal) := by
  have e := turn_apply _ c a b p o r (slice0_apply h w p o r hp) l
  rw [← q_scale, ← e]
  unfold k0_pay18
  exact cast_slab _ _ u r l

theorem store22 : k0_pay22 b (k0_pay19 h w) (k0_pay20 h c w) (k0_pay21 h a w) (ix3 u r l) =
    turned p (row c r) (row a r) (row b r) (o + 128) l * (((8 * Real.log 2)⁻¹ : ℝ) : EReal) := by
  have e := turn_apply _ c a b p (o + 128) r (slice1_apply h w p o r hp) l
  rw [← q_scale, ← e]
  unfold k0_pay22
  exact cast_slab _ _ u r l

theorem store35 : k0_pay35 h c a b w (ix3 u r l) = turned p (row c r) (row a r) (row b r) o l * (((8 * Real.log 2)⁻¹ : ℝ) : EReal) := by
  have e := turn_apply _ c a b p o r (slice0_apply h w p o r hp) l
  rw [← q_scale, ← e]
  unfold k0_pay35
  exact cast_slab _ _ u r l

theorem store36 : k0_pay36 h c a b w (ix3 u r l) =
    turned p (row c r) (row a r) (row b r) (o + 128) l * (((8 * Real.log 2)⁻¹ : ℝ) : EReal) := by
  have e := turn_apply _ c a b p (o + 128) r (slice1_apply h w p o r hp) l
  rw [← q_scale, ← e]
  unfold k0_pay36
  exact cast_slab _ _ u r l

theorem store47 : k0_pay47 h c a b w (ix3 u r l) = turned p (row c r) (row a r) (row b r) o l := by
  rw [← turn_apply _ c a b p o r (slice0_apply h w p o r hp) l]
  unfold k0_pay47
  exact cast_slab _ _ u r l

theorem store48 : k0_pay1 (k0_pay48 h c a b w) (ix3 u r l) = turned p (row c r) (row a r) (row b r) (o + 128) l := by
  rw [← turn_apply _ c a b p (o + 128) r (slice1_apply h w p o r hp) l]
  unfold k0_pay1
  exact cast_slab _ _ u r l

theorem store6 : k0_pay6 h w (ix3 u r l) = p (o + l.val) := by
  rw [← slice0_apply h w p o r hp l]
  unfold k0_pay6
  exact cast_slab _ _ u r l

theorem store7 : k0_pay7 h w (ix3 u r l) = p (o + 128 + l.val) := by
  rw [← slice1_apply h w p o r hp l]
  unfold k0_pay7
  exact cast_slab _ _ u r l

theorem pay25_apply : k0_pay25 h c a b w (ix2 r l) = turned p (row c r) (row a r) (row b r) o l :=
  turn_apply _ c a b p o r (slice0_apply h w p o r hp) l

theorem pay26_apply : k0_pay26 h w (ix2 r l) = p (o + 128 + l.val) :=
  slice1_apply h w p o r hp l

theorem store28 : k0_pay28 h c a b w (ix3 u r l) = turned p (row c r) (row a r) (row b r) o (half 0 l) := by
  unfold k0_pay28
  refine (cast_slab _ _ u r l).trans ((mask_apply r l _ _).trans ?_)
  unfold k0_pay27
  split
  · rw [pay25_apply h w c a b p o r hp]
    exact congrArg _ (Fin.ext (by show l.val = 64 * 0 + l.val % 64; omega))
  · pointwise
    rw [pay25_apply h w c a b p o r hp]
    exact congrArg _ (Fin.ext (by show _ = 64 * 0 + l.val % 64; simp only []; omega))

theorem store29 : k0_pay29 h c a b w (ix3 u r l) = turned p (row c r) (row a r) (row b r) o (half 1 l) := by
  unfold k0_pay29
  refine (cast_slab _ _ u r l).trans ((mask_apply r l _ _).trans ?_)
  unfold k0_pay27
  split
  · pointwise
    rw [pay25_apply h w c a b p o r hp]
    exact congrArg _ (Fin.ext (by show _ = 64 * 1 + l.val % 64; simp only []; omega))
  · rw [pay25_apply h w c a b p o r hp]
    exact congrArg _ (Fin.ext (by show l.val = 64 * 1 + l.val % 64; omega))

theorem store32 : k0_pay32 (k0_pay31 h w) (ix3 u r l) = p (o + 128 + 64 * 0 + l.val % 64) := by
  unfold k0_pay32
  refine (cast_slab _ _ u r l).trans ?_
  unfold k0_pay31
  refine (mask_apply r l _ _).trans ?_
  unfold k0_pay30
  split
  · rw [pay26_apply h w p o r hp]
    exact congrArg p (by omega)
  · pointwise
    rw [pay26_apply h w p o r hp]
    exact congrArg p (by simp only []; omega)

theorem store33 : k0_pay33 k0_pay24 (k0_pay26 h w) (k0_pay30 h w) (ix3 u r l) = p (o + 128 + 64 * 1 + l.val % 64) := by
  unfold k0_pay33
  refine (cast_slab _ _ u r l).trans ((mask_apply r l _ _).trans ?_)
  unfold k0_pay30
  split
  · pointwise
    rw [pay26_apply h w p o r hp]
    exact congrArg p (by simp only []; omega)
  · rw [pay26_apply h w p o r hp]
    exact congrArg p (by omega)

end Stores

theorem store15 (x0 : FVec Ideal S1024x1024 .f32) (x1 : FVec Ideal S1x1024 .f32) (w : FVec Ideal S1024x256 .bf16) (c a b : FVec Ideal S1024x128 .f32)
    (p : ℕ → EReal) (o : ℕ) (r : Fin 1024) (hp : ∀ n : Fin 256, (∑ k : Fin 1024, (k0_pay9 (F := Ideal) x0 x1 (ix2 r k) : EReal) * w (ix2 k n)) = p (o + n.val)) (u : Fin 1) (l : Fin 128) :
    (k0_pay15 (F := Ideal) (k0_pay14 x0 x1 c a b w) (ix3 u r l) : EReal) = turned p (row c r) (row a r) (row b r) o l * (((8 * Real.log 2)⁻¹ : ℝ) : EReal) := by
  have e := store18 (k0_pay9 x0 x1) w (k0_pay10 c) (k0_pay11 a) (k0_pay12 b) p o r hp u l
  rw [pay10_eq, pay11_eq, pay12_eq] at e
  rw [← e]
  have ec := pay10_eq c
  have ea := pay11_eq a
  have eb := pay12_eq b
  unfold k0_pay15 k0_pay14 k0_pay18
  rw [ec, ea, eb]
  rfl

/-- A load of a whole block is the block. -/
theorem ld_whole {n0 n1 : ℕ} {e : EltTy} (X : Vec Ideal ⟨2, ![n0, n1]⟩ e) (inb : ∀ d, (![0, 0] : Fin 2 → ℕ) d + (![n0, n1] : Fin 2 → ℕ) d ≤ (⟨2, ![n0, n1]⟩ : Shape).size d) :
    View.ld (Val := Elt Ideal) (e' := e) X (Rect.unit (s := ⟨2, ![n0, n1]⟩) ![0, 0] ![n0, n1] inb) = X := by
  funext y
  refine congrArg X (funext fun d => Fin.ext ?_)
  fin_cases d
  · show 0 + 1 * (y 0).val = (y 0).val
    omega
  · show 0 + 1 * (y 1).val = (y 1).val
    omega

theorem ld_rows (X : Vec Ideal S1024x1024 .f32) : View.ld X (Rect.unit (s := S1024x1024) ![0, 0] ![1024, 1024] inb_S1024x1024_S1024x1024_0_0) = X :=
  ld_whole X _

theorem ld_gain (X : Vec Ideal S1x1024 .f32) : View.ld X (Rect.unit (s := S1x1024) ![0, 0] ![1, 1024] inb_S1x1024_S1x1024_0_0) = X :=
  ld_whole X _

theorem ld_table (X : Vec Ideal S1024x128 .f32) : View.ld X (Rect.unit (s := S1024x128) ![0, 0] ![1024, 128] inb_S1024x128_S1024x128_0_0) = X :=
  ld_whole X _

theorem ld_weights (X : Vec Ideal S1024x2304 .f32) : View.ld X (Rect.unit (s := S1024x2304) ![0, 0] ![1024, 2304] inb_S1024x2304_S1024x2304_0_0) = X :=
  ld_whole X _

/-- A load from a scratch stored whole reads what was stored. -/
theorem load_stored {κ : Kind} {sp : Space} (v : View sig κ sp S1024x2304 .bf16) (w : Vec Ideal S1024x2304 .bf16) (B : Rect S1024x2304) :
    v.readCov (Val := Elt Ideal) [⟨Rect.unit (s := S1024x2304) ![0, 0] ![1024, 2304] inb_S1024x2304_S1024x2304_0_0, w⟩] B.toLoadRect = View.ld w B := by
  have hz : (![0, 0] : Fin 2 → ℕ) = fun _ => 0 := by
    funext d
    fin_cases d <;> rfl
  have e := View.canon_unit_zero (Val := Elt Ideal) (S := S1024x2304) (e := .bf16) hz inb_S1024x2304_S1024x2304_0_0 w
  refine (View.readCov_eq_canon' v _ _).trans (funext fun j => ?_)
  exact congrFun e _

/-- A scratch stored whole holds what was stored. -/
theorem load_stored_all {κ : Kind} {sp : Space} (v : View sig κ sp S1024x2304 .bf16) (w : Vec Ideal S1024x2304 .bf16) :
    v.read (Elt Ideal) (v.writes (Elt Ideal) v.junk [⟨Rect.unit (s := S1024x2304) ![0, 0] ![1024, 2304] inb_S1024x2304_S1024x2304_0_0, w⟩]) = w := by
  have hz : (![0, 0] : Fin 2 → ℕ) = fun _ => 0 := by
    funext d
    fin_cases d <;> rfl
  have e := View.canon_unit_zero (Val := Elt Ideal) (S := S1024x2304) (e := .bf16) hz inb_S1024x2304_S1024x2304_0_0 w
  refine funext fun y => ?_
  refine (View.read_writes_junk_apply_eq_canon v y _).trans ?_
  exact congrFun e _

/-- A stored slab agrees with a function of slab, row and lane when its entries do. -/
theorem piece_eq {n a : ℕ} (ha : a < n) (inb : ∀ d, (![a, 0, 0] : Fin 3 → ℕ) d + S1x1024x128.size d ≤ (⟨3, ![n, 1024, 128]⟩ : Shape).size d)
    (G : (⟨3, ![n, 1024, 128]⟩ : Shape).Idx → EReal) (v : S1x1024x128.Idx → EReal) (hv : ∀ (u : Fin 1) (r : Fin 1024) (l : Fin 128), v (ix3 u r l) = G (ix3 ⟨a, ha⟩ r l))
    (x : S1x1024x128.Idx) :
    v x = G ((Rect.unit (s := ⟨3, ![n, 1024, 128]⟩) ![a, 0, 0] S1x1024x128.size inb).emb x) := by
  obtain ⟨u, r, l, rfl⟩ : ∃ (u : Fin 1) (r : Fin 1024) (l : Fin 128), x = ix3 u r l := ⟨x 0, x 1, x 2, eq_ix3 x⟩
  exact (hv u r l).trans (congrArg G (emb_slab ha inb u r l).symm)

/-- The named constant's value. -/
abbrev scale : EReal := (((8 * Real.log 2)⁻¹ : ℝ) : EReal)

theorem out6_B (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : ¬cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (xs0 : Vec Ideal S1024x2304 .bf16) (e : Fin 4) (r : Fin 1024) (l : Fin 128) :
    out0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l) =
      turned (cols x0 x1 xs0 r) (row x3 r) (row x4 r) (row x5 r) (128 * e.val) l * scale := by
  unfold out0_B_6
  rw [View.read_writes_eq_canon _ _ _ (cover0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0)]
  refine View.canon_apply_of_pieces (fun y : (⟨3, ![4, 1024, 128]⟩ : Shape).Idx => turned (cols x0 x1 xs0 (y 1)) (row x3 (y 1)) (row x4 (y 1)) (row x5 (y 1)) (128 * (y 0).val) (y 2) * scale) _ ?_ (ix3 e r l) (cover0_B_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l))
  unfold kernelRun0_B
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 4) (a := 3) (by decide) inb_S4x1024x128_S1x1024x128_3_0_0 (fun y : (⟨3, ![4, 1024, 128]⟩ : Shape).Idx => turned (cols x0 x1 xs0 (y 1)) (row x3 (y 1)) (row x4 (y 1)) (row x5 (y 1)) (128 * (y 0).val) (y 2) * scale) _ (fun u r l => store22 (k0_pay9 x0 x1) _ x3 x4 x5 (cols x0 x1 xs0 r) 256 r (load_sum x0 x1 xs0 256 inb_S1024x2304_S1024x256_0_256 (by decide) r) u l) x,
    List.forall_mem_cons.2 ⟨fun x => piece_eq (n := 4) (a := 2) (by decide) inb_S4x1024x128_S1x1024x128_2_0_0 (fun y : (⟨3, ![4, 1024, 128]⟩ : Shape).Idx => turned (cols x0 x1 xs0 (y 1)) (row x3 (y 1)) (row x4 (y 1)) (row x5 (y 1)) (128 * (y 0).val) (y 2) * scale) _ (fun u r l => store18 (k0_pay9 x0 x1) _ x3 x4 x5 (cols x0 x1 xs0 r) 256 r (load_sum x0 x1 xs0 256 inb_S1024x2304_S1024x256_0_256 (by decide) r) u l) x,
    List.forall_mem_cons.2 ⟨fun x => piece_eq (n := 4) (a := 1) (by decide) inb_S4x1024x128_S1x1024x128_1_0_0 (fun y : (⟨3, ![4, 1024, 128]⟩ : Shape).Idx => turned (cols x0 x1 xs0 (y 1)) (row x3 (y 1)) (row x4 (y 1)) (row x5 (y 1)) (128 * (y 0).val) (y 2) * scale) _ (fun u r l => store22 (k0_pay9 x0 x1) _ x3 x4 x5 (cols x0 x1 xs0 r) 0 r (load_sum x0 x1 xs0 0 inb_S1024x2304_S1024x256_0_0 (by decide) r) u l) x,
    List.forall_mem_cons.2 ⟨fun x => piece_eq (n := 4) (a := 0) (by decide) inb_S4x1024x128_S1x1024x128_0_0_0 (fun y : (⟨3, ![4, 1024, 128]⟩ : Shape).Idx => turned (cols x0 x1 xs0 (y 1)) (row x3 (y 1)) (row x4 (y 1)) (row x5 (y 1)) (128 * (y 0).val) (y 2) * scale) _ (fun u r l => store15 x0 x1 _ x3 x4 x5 (cols x0 x1 xs0 r) 0 r (load_sum x0 x1 xs0 0 inb_S1024x2304_S1024x256_0_0 (by decide) r) u l) x,
    fun _ hx => absurd hx List.not_mem_nil⟩⟩⟩⟩

theorem out6_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (e : Fin 4) (r : Fin 1024) (l : Fin 128) :
    out0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l) =
      turned (cols x0 x1 (k0_pay8 x2) r) (row x3 r) (row x4 r) (row x5 r) (128 * e.val) l * scale := by
  unfold out0_A_6
  rw [View.read_writes_eq_canon _ _ _ (cover0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  refine View.canon_apply_of_pieces (fun y : (⟨3, ![4, 1024, 128]⟩ : Shape).Idx => turned (cols x0 x1 (k0_pay8 x2) (y 1)) (row x3 (y 1)) (row x4 (y 1)) (row x5 (y 1)) (128 * (y 0).val) (y 2) * scale) _ ?_ (ix3 e r l) (cover0_A_6 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l))
  unfold kernelRun0_A
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 4) (a := 3) (by decide) inb_S4x1024x128_S1x1024x128_3_0_0 (fun y : (⟨3, ![4, 1024, 128]⟩ : Shape).Idx => turned (cols x0 x1 (k0_pay8 x2) (y 1)) (row x3 (y 1)) (row x4 (y 1)) (row x5 (y 1)) (128 * (y 0).val) (y 2) * scale) _ (fun u r l => store22 (k0_pay9 x0 x1) _ x3 x4 x5 (cols x0 x1 (k0_pay8 x2) r) 256 r (load_sum x0 x1 (k0_pay8 x2) 256 inb_S1024x2304_S1024x256_0_256 (by decide) r) u l) x,
    List.forall_mem_cons.2 ⟨fun x => piece_eq (n := 4) (a := 2) (by decide) inb_S4x1024x128_S1x1024x128_2_0_0 (fun y : (⟨3, ![4, 1024, 128]⟩ : Shape).Idx => turned (cols x0 x1 (k0_pay8 x2) (y 1)) (row x3 (y 1)) (row x4 (y 1)) (row x5 (y 1)) (128 * (y 0).val) (y 2) * scale) _ (fun u r l => store18 (k0_pay9 x0 x1) _ x3 x4 x5 (cols x0 x1 (k0_pay8 x2) r) 256 r (load_sum x0 x1 (k0_pay8 x2) 256 inb_S1024x2304_S1024x256_0_256 (by decide) r) u l) x,
    List.forall_mem_cons.2 ⟨fun x => piece_eq (n := 4) (a := 1) (by decide) inb_S4x1024x128_S1x1024x128_1_0_0 (fun y : (⟨3, ![4, 1024, 128]⟩ : Shape).Idx => turned (cols x0 x1 (k0_pay8 x2) (y 1)) (row x3 (y 1)) (row x4 (y 1)) (row x5 (y 1)) (128 * (y 0).val) (y 2) * scale) _ (fun u r l => store22 (k0_pay9 x0 x1) _ x3 x4 x5 (cols x0 x1 (k0_pay8 x2) r) 0 r (load_sum x0 x1 (k0_pay8 x2) 0 inb_S1024x2304_S1024x256_0_0 (by decide) r) u l) x,
    List.forall_mem_cons.2 ⟨fun x => piece_eq (n := 4) (a := 0) (by decide) inb_S4x1024x128_S1x1024x128_0_0_0 (fun y : (⟨3, ![4, 1024, 128]⟩ : Shape).Idx => turned (cols x0 x1 (k0_pay8 x2) (y 1)) (row x3 (y 1)) (row x4 (y 1)) (row x5 (y 1)) (128 * (y 0).val) (y 2) * scale) _ (fun u r l => store15 x0 x1 _ x3 x4 x5 (cols x0 x1 (k0_pay8 x2) r) 0 r (load_sum x0 x1 (k0_pay8 x2) 0 inb_S1024x2304_S1024x256_0_0 (by decide) r) u l) x,
    fun _ hx => absurd hx List.not_mem_nil⟩⟩⟩⟩

theorem out7_B (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : ¬cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (xs0 : Vec Ideal S1024x2304 .bf16) (e : Fin 2) (r : Fin 1024) (l : Fin 128) :
    out0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l) =
      turned (cols x0 x1 xs0 r) (row x3 r) (row x4 r) (row x5 r) 512 (half e l) := by
  unfold out0_B_7
  rw [View.read_writes_eq_canon _ _ _ (cover0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0)]
  refine View.canon_apply_of_pieces (fun y : (⟨3, ![2, 1024, 128]⟩ : Shape).Idx => turned (cols x0 x1 xs0 (y 1)) (row x3 (y 1)) (row x4 (y 1)) (row x5 (y 1)) 512 (half (y 0) (y 2))) _ ?_ (ix3 e r l) (cover0_B_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l))
  unfold kernelRun0_B
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 2) (a := 1) (by decide) inb_S2x1024x128_S1x1024x128_1_0_0 (fun y : (⟨3, ![2, 1024, 128]⟩ : Shape).Idx => turned (cols x0 x1 xs0 (y 1)) (row x3 (y 1)) (row x4 (y 1)) (row x5 (y 1)) 512 (half (y 0) (y 2))) _ (fun u r l => store29 (k0_pay9 x0 x1) _ x3 x4 x5 (cols x0 x1 xs0 r) 512 r (load_sum x0 x1 xs0 512 inb_S1024x2304_S1024x256_0_512 (by decide) r) u l) x,
    List.forall_mem_cons.2 ⟨fun x => piece_eq (n := 2) (a := 0) (by decide) inb_S2x1024x128_S1x1024x128_0_0_0 (fun y : (⟨3, ![2, 1024, 128]⟩ : Shape).Idx => turned (cols x0 x1 xs0 (y 1)) (row x3 (y 1)) (row x4 (y 1)) (row x5 (y 1)) 512 (half (y 0) (y 2))) _ (fun u r l => store28 (k0_pay9 x0 x1) _ x3 x4 x5 (cols x0 x1 xs0 r) 512 r (load_sum x0 x1 xs0 512 inb_S1024x2304_S1024x256_0_512 (by decide) r) u l) x,
    fun _ hx => absurd hx List.not_mem_nil⟩⟩

theorem out7_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (e : Fin 2) (r : Fin 1024) (l : Fin 128) :
    out0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l) =
      turned (cols x0 x1 (k0_pay8 x2) r) (row x3 r) (row x4 r) (row x5 r) 512 (half e l) := by
  unfold out0_A_7
  rw [View.read_writes_eq_canon _ _ _ (cover0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  refine View.canon_apply_of_pieces (fun y : (⟨3, ![2, 1024, 128]⟩ : Shape).Idx => turned (cols x0 x1 (k0_pay8 x2) (y 1)) (row x3 (y 1)) (row x4 (y 1)) (row x5 (y 1)) 512 (half (y 0) (y 2))) _ ?_ (ix3 e r l) (cover0_A_7 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l))
  unfold kernelRun0_A
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 2) (a := 1) (by decide) inb_S2x1024x128_S1x1024x128_1_0_0 (fun y : (⟨3, ![2, 1024, 128]⟩ : Shape).Idx => turned (cols x0 x1 (k0_pay8 x2) (y 1)) (row x3 (y 1)) (row x4 (y 1)) (row x5 (y 1)) 512 (half (y 0) (y 2))) _ (fun u r l => store29 (k0_pay9 x0 x1) _ x3 x4 x5 (cols x0 x1 (k0_pay8 x2) r) 512 r (load_sum x0 x1 (k0_pay8 x2) 512 inb_S1024x2304_S1024x256_0_512 (by decide) r) u l) x,
    List.forall_mem_cons.2 ⟨fun x => piece_eq (n := 2) (a := 0) (by decide) inb_S2x1024x128_S1x1024x128_0_0_0 (fun y : (⟨3, ![2, 1024, 128]⟩ : Shape).Idx => turned (cols x0 x1 (k0_pay8 x2) (y 1)) (row x3 (y 1)) (row x4 (y 1)) (row x5 (y 1)) 512 (half (y 0) (y 2))) _ (fun u r l => store28 (k0_pay9 x0 x1) _ x3 x4 x5 (cols x0 x1 (k0_pay8 x2) r) 512 r (load_sum x0 x1 (k0_pay8 x2) 512 inb_S1024x2304_S1024x256_0_512 (by decide) r) u l) x,
    fun _ hx => absurd hx List.not_mem_nil⟩⟩

theorem out8_B (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : ¬cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (xs0 : Vec Ideal S1024x2304 .bf16) (e : Fin 2) (r : Fin 1024) (l : Fin 128) :
    out0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l) =
      cols x0 x1 xs0 r (512 + 128 + 64 * e.val + l.val % 64) := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0)]
  refine View.canon_apply_of_pieces (fun y : (⟨3, ![2, 1024, 128]⟩ : Shape).Idx => cols x0 x1 xs0 (y 1) (512 + 128 + 64 * (y 0).val + (y 2).val % 64)) _ ?_ (ix3 e r l) (cover0_B_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l))
  unfold kernelRun0_B
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 2) (a := 1) (by decide) inb_S2x1024x128_S1x1024x128_1_0_0 (fun y : (⟨3, ![2, 1024, 128]⟩ : Shape).Idx => cols x0 x1 xs0 (y 1) (512 + 128 + 64 * (y 0).val + (y 2).val % 64)) _ (fun u r l => store33 (k0_pay9 x0 x1) _ (cols x0 x1 xs0 r) 512 r (load_sum x0 x1 xs0 512 inb_S1024x2304_S1024x256_0_512 (by decide) r) u l) x,
    List.forall_mem_cons.2 ⟨fun x => piece_eq (n := 2) (a := 0) (by decide) inb_S2x1024x128_S1x1024x128_0_0_0 (fun y : (⟨3, ![2, 1024, 128]⟩ : Shape).Idx => cols x0 x1 xs0 (y 1) (512 + 128 + 64 * (y 0).val + (y 2).val % 64)) _ (fun u r l => store32 (k0_pay9 x0 x1) _ (cols x0 x1 xs0 r) 512 r (load_sum x0 x1 xs0 512 inb_S1024x2304_S1024x256_0_512 (by decide) r) u l) x,
    fun _ hx => absurd hx List.not_mem_nil⟩⟩

theorem out8_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (e : Fin 2) (r : Fin 1024) (l : Fin 128) :
    out0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l) =
      cols x0 x1 (k0_pay8 x2) r (512 + 128 + 64 * e.val + l.val % 64) := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  refine View.canon_apply_of_pieces (fun y : (⟨3, ![2, 1024, 128]⟩ : Shape).Idx => cols x0 x1 (k0_pay8 x2) (y 1) (512 + 128 + 64 * (y 0).val + (y 2).val % 64)) _ ?_ (ix3 e r l) (cover0_A_8 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l))
  unfold kernelRun0_A
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 2) (a := 1) (by decide) inb_S2x1024x128_S1x1024x128_1_0_0 (fun y : (⟨3, ![2, 1024, 128]⟩ : Shape).Idx => cols x0 x1 (k0_pay8 x2) (y 1) (512 + 128 + 64 * (y 0).val + (y 2).val % 64)) _ (fun u r l => store33 (k0_pay9 x0 x1) _ (cols x0 x1 (k0_pay8 x2) r) 512 r (load_sum x0 x1 (k0_pay8 x2) 512 inb_S1024x2304_S1024x256_0_512 (by decide) r) u l) x,
    List.forall_mem_cons.2 ⟨fun x => piece_eq (n := 2) (a := 0) (by decide) inb_S2x1024x128_S1x1024x128_0_0_0 (fun y : (⟨3, ![2, 1024, 128]⟩ : Shape).Idx => cols x0 x1 (k0_pay8 x2) (y 1) (512 + 128 + 64 * (y 0).val + (y 2).val % 64)) _ (fun u r l => store32 (k0_pay9 x0 x1) _ (cols x0 x1 (k0_pay8 x2) r) 512 r (load_sum x0 x1 (k0_pay8 x2) 512 inb_S1024x2304_S1024x256_0_512 (by decide) r) u l) x,
    fun _ hx => absurd hx List.not_mem_nil⟩⟩

theorem out9_B (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : ¬cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (xs0 : Vec Ideal S1024x2304 .bf16) (e : Fin 4) (r : Fin 1024) (l : Fin 128) :
    out0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l) =
      turned (cols x0 x1 xs0 r) (row x3 r) (row x4 r) (row x5 r) (768 + 128 * e.val) l * scale := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0)]
  refine View.canon_apply_of_pieces (fun y : (⟨3, ![4, 1024, 128]⟩ : Shape).Idx => turned (cols x0 x1 xs0 (y 1)) (row x3 (y 1)) (row x4 (y 1)) (row x5 (y 1)) (768 + 128 * (y 0).val) (y 2) * scale) _ ?_ (ix3 e r l) (cover0_B_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l))
  unfold kernelRun0_B
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 4) (a := 3) (by decide) inb_S4x1024x128_S1x1024x128_3_0_0 (fun y : (⟨3, ![4, 1024, 128]⟩ : Shape).Idx => turned (cols x0 x1 xs0 (y 1)) (row x3 (y 1)) (row x4 (y 1)) (row x5 (y 1)) (768 + 128 * (y 0).val) (y 2) * scale) _ (fun u r l => store36 (k0_pay9 x0 x1) _ x3 x4 x5 (cols x0 x1 xs0 r) 1024 r (load_sum x0 x1 xs0 1024 inb_S1024x2304_S1024x256_0_1024 (by decide) r) u l) x,
    List.forall_mem_cons.2 ⟨fun x => piece_eq (n := 4) (a := 2) (by decide) inb_S4x1024x128_S1x1024x128_2_0_0 (fun y : (⟨3, ![4, 1024, 128]⟩ : Shape).Idx => turned (cols x0 x1 xs0 (y 1)) (row x3 (y 1)) (row x4 (y 1)) (row x5 (y 1)) (768 + 128 * (y 0).val) (y 2) * scale) _ (fun u r l => store35 (k0_pay9 x0 x1) _ x3 x4 x5 (cols x0 x1 xs0 r) 1024 r (load_sum x0 x1 xs0 1024 inb_S1024x2304_S1024x256_0_1024 (by decide) r) u l) x,
    List.forall_mem_cons.2 ⟨fun x => piece_eq (n := 4) (a := 1) (by decide) inb_S4x1024x128_S1x1024x128_1_0_0 (fun y : (⟨3, ![4, 1024, 128]⟩ : Shape).Idx => turned (cols x0 x1 xs0 (y 1)) (row x3 (y 1)) (row x4 (y 1)) (row x5 (y 1)) (768 + 128 * (y 0).val) (y 2) * scale) _ (fun u r l => store36 (k0_pay9 x0 x1) _ x3 x4 x5 (cols x0 x1 xs0 r) 768 r (load_sum x0 x1 xs0 768 inb_S1024x2304_S1024x256_0_768 (by decide) r) u l) x,
    List.forall_mem_cons.2 ⟨fun x => piece_eq (n := 4) (a := 0) (by decide) inb_S4x1024x128_S1x1024x128_0_0_0 (fun y : (⟨3, ![4, 1024, 128]⟩ : Shape).Idx => turned (cols x0 x1 xs0 (y 1)) (row x3 (y 1)) (row x4 (y 1)) (row x5 (y 1)) (768 + 128 * (y 0).val) (y 2) * scale) _ (fun u r l => store35 (k0_pay9 x0 x1) _ x3 x4 x5 (cols x0 x1 xs0 r) 768 r (load_sum x0 x1 xs0 768 inb_S1024x2304_S1024x256_0_768 (by decide) r) u l) x,
    fun _ hx => absurd hx List.not_mem_nil⟩⟩⟩⟩

theorem out9_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (e : Fin 4) (r : Fin 1024) (l : Fin 128) :
    out0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l) =
      turned (cols x0 x1 (k0_pay8 x2) r) (row x3 r) (row x4 r) (row x5 r) (768 + 128 * e.val) l * scale := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  refine View.canon_apply_of_pieces (fun y : (⟨3, ![4, 1024, 128]⟩ : Shape).Idx => turned (cols x0 x1 (k0_pay8 x2) (y 1)) (row x3 (y 1)) (row x4 (y 1)) (row x5 (y 1)) (768 + 128 * (y 0).val) (y 2) * scale) _ ?_ (ix3 e r l) (cover0_A_9 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l))
  unfold kernelRun0_A
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 4) (a := 3) (by decide) inb_S4x1024x128_S1x1024x128_3_0_0 (fun y : (⟨3, ![4, 1024, 128]⟩ : Shape).Idx => turned (cols x0 x1 (k0_pay8 x2) (y 1)) (row x3 (y 1)) (row x4 (y 1)) (row x5 (y 1)) (768 + 128 * (y 0).val) (y 2) * scale) _ (fun u r l => store36 (k0_pay9 x0 x1) _ x3 x4 x5 (cols x0 x1 (k0_pay8 x2) r) 1024 r (load_sum x0 x1 (k0_pay8 x2) 1024 inb_S1024x2304_S1024x256_0_1024 (by decide) r) u l) x,
    List.forall_mem_cons.2 ⟨fun x => piece_eq (n := 4) (a := 2) (by decide) inb_S4x1024x128_S1x1024x128_2_0_0 (fun y : (⟨3, ![4, 1024, 128]⟩ : Shape).Idx => turned (cols x0 x1 (k0_pay8 x2) (y 1)) (row x3 (y 1)) (row x4 (y 1)) (row x5 (y 1)) (768 + 128 * (y 0).val) (y 2) * scale) _ (fun u r l => store35 (k0_pay9 x0 x1) _ x3 x4 x5 (cols x0 x1 (k0_pay8 x2) r) 1024 r (load_sum x0 x1 (k0_pay8 x2) 1024 inb_S1024x2304_S1024x256_0_1024 (by decide) r) u l) x,
    List.forall_mem_cons.2 ⟨fun x => piece_eq (n := 4) (a := 1) (by decide) inb_S4x1024x128_S1x1024x128_1_0_0 (fun y : (⟨3, ![4, 1024, 128]⟩ : Shape).Idx => turned (cols x0 x1 (k0_pay8 x2) (y 1)) (row x3 (y 1)) (row x4 (y 1)) (row x5 (y 1)) (768 + 128 * (y 0).val) (y 2) * scale) _ (fun u r l => store36 (k0_pay9 x0 x1) _ x3 x4 x5 (cols x0 x1 (k0_pay8 x2) r) 768 r (load_sum x0 x1 (k0_pay8 x2) 768 inb_S1024x2304_S1024x256_0_768 (by decide) r) u l) x,
    List.forall_mem_cons.2 ⟨fun x => piece_eq (n := 4) (a := 0) (by decide) inb_S4x1024x128_S1x1024x128_0_0_0 (fun y : (⟨3, ![4, 1024, 128]⟩ : Shape).Idx => turned (cols x0 x1 (k0_pay8 x2) (y 1)) (row x3 (y 1)) (row x4 (y 1)) (row x5 (y 1)) (768 + 128 * (y 0).val) (y 2) * scale) _ (fun u r l => store35 (k0_pay9 x0 x1) _ x3 x4 x5 (cols x0 x1 (k0_pay8 x2) r) 768 r (load_sum x0 x1 (k0_pay8 x2) 768 inb_S1024x2304_S1024x256_0_768 (by decide) r) u l) x,
    fun _ hx => absurd hx List.not_mem_nil⟩⟩⟩⟩

theorem out10_B (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : ¬cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (xs0 : Vec Ideal S1024x2304 .bf16) (e : Fin 4) (r : Fin 1024) (l : Fin 128) :
    out0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l) =
      turned (cols x0 x1 xs0 r) (row x3 r) (row x4 r) (row x5 r) (1280 + 128 * e.val) l := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0)]
  refine View.canon_apply_of_pieces (fun y : (⟨3, ![4, 1024, 128]⟩ : Shape).Idx => turned (cols x0 x1 xs0 (y 1)) (row x3 (y 1)) (row x4 (y 1)) (row x5 (y 1)) (1280 + 128 * (y 0).val) (y 2)) _ ?_ (ix3 e r l) (cover0_B_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l))
  unfold kernelRun0_B
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 4) (a := 3) (by decide) inb_S4x1024x128_S1x1024x128_3_0_0 (fun y : (⟨3, ![4, 1024, 128]⟩ : Shape).Idx => turned (cols x0 x1 xs0 (y 1)) (row x3 (y 1)) (row x4 (y 1)) (row x5 (y 1)) (1280 + 128 * (y 0).val) (y 2)) _ (fun u r l => store48 (k0_pay9 x0 x1) _ x3 x4 x5 (cols x0 x1 xs0 r) 1536 r (load_sum x0 x1 xs0 1536 inb_S1024x2304_S1024x256_0_1536 (by decide) r) u l) x,
    List.forall_mem_cons.2 ⟨fun x => piece_eq (n := 4) (a := 2) (by decide) inb_S4x1024x128_S1x1024x128_2_0_0 (fun y : (⟨3, ![4, 1024, 128]⟩ : Shape).Idx => turned (cols x0 x1 xs0 (y 1)) (row x3 (y 1)) (row x4 (y 1)) (row x5 (y 1)) (1280 + 128 * (y 0).val) (y 2)) _ (fun u r l => store47 (k0_pay9 x0 x1) _ x3 x4 x5 (cols x0 x1 xs0 r) 1536 r (load_sum x0 x1 xs0 1536 inb_S1024x2304_S1024x256_0_1536 (by decide) r) u l) x,
    List.forall_mem_cons.2 ⟨fun x => piece_eq (n := 4) (a := 1) (by decide) inb_S4x1024x128_S1x1024x128_1_0_0 (fun y : (⟨3, ![4, 1024, 128]⟩ : Shape).Idx => turned (cols x0 x1 xs0 (y 1)) (row x3 (y 1)) (row x4 (y 1)) (row x5 (y 1)) (1280 + 128 * (y 0).val) (y 2)) _ (fun u r l => store48 (k0_pay9 x0 x1) _ x3 x4 x5 (cols x0 x1 xs0 r) 1280 r (load_sum x0 x1 xs0 1280 inb_S1024x2304_S1024x256_0_1280 (by decide) r) u l) x,
    List.forall_mem_cons.2 ⟨fun x => piece_eq (n := 4) (a := 0) (by decide) inb_S4x1024x128_S1x1024x128_0_0_0 (fun y : (⟨3, ![4, 1024, 128]⟩ : Shape).Idx => turned (cols x0 x1 xs0 (y 1)) (row x3 (y 1)) (row x4 (y 1)) (row x5 (y 1)) (1280 + 128 * (y 0).val) (y 2)) _ (fun u r l => store47 (k0_pay9 x0 x1) _ x3 x4 x5 (cols x0 x1 xs0 r) 1280 r (load_sum x0 x1 xs0 1280 inb_S1024x2304_S1024x256_0_1280 (by decide) r) u l) x,
    fun _ hx => absurd hx List.not_mem_nil⟩⟩⟩⟩

theorem out10_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (e : Fin 4) (r : Fin 1024) (l : Fin 128) :
    out0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l) =
      turned (cols x0 x1 (k0_pay8 x2) r) (row x3 r) (row x4 r) (row x5 r) (1280 + 128 * e.val) l := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  refine View.canon_apply_of_pieces (fun y : (⟨3, ![4, 1024, 128]⟩ : Shape).Idx => turned (cols x0 x1 (k0_pay8 x2) (y 1)) (row x3 (y 1)) (row x4 (y 1)) (row x5 (y 1)) (1280 + 128 * (y 0).val) (y 2)) _ ?_ (ix3 e r l) (cover0_A_10 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l))
  unfold kernelRun0_A
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 4) (a := 3) (by decide) inb_S4x1024x128_S1x1024x128_3_0_0 (fun y : (⟨3, ![4, 1024, 128]⟩ : Shape).Idx => turned (cols x0 x1 (k0_pay8 x2) (y 1)) (row x3 (y 1)) (row x4 (y 1)) (row x5 (y 1)) (1280 + 128 * (y 0).val) (y 2)) _ (fun u r l => store48 (k0_pay9 x0 x1) _ x3 x4 x5 (cols x0 x1 (k0_pay8 x2) r) 1536 r (load_sum x0 x1 (k0_pay8 x2) 1536 inb_S1024x2304_S1024x256_0_1536 (by decide) r) u l) x,
    List.forall_mem_cons.2 ⟨fun x => piece_eq (n := 4) (a := 2) (by decide) inb_S4x1024x128_S1x1024x128_2_0_0 (fun y : (⟨3, ![4, 1024, 128]⟩ : Shape).Idx => turned (cols x0 x1 (k0_pay8 x2) (y 1)) (row x3 (y 1)) (row x4 (y 1)) (row x5 (y 1)) (1280 + 128 * (y 0).val) (y 2)) _ (fun u r l => store47 (k0_pay9 x0 x1) _ x3 x4 x5 (cols x0 x1 (k0_pay8 x2) r) 1536 r (load_sum x0 x1 (k0_pay8 x2) 1536 inb_S1024x2304_S1024x256_0_1536 (by decide) r) u l) x,
    List.forall_mem_cons.2 ⟨fun x => piece_eq (n := 4) (a := 1) (by decide) inb_S4x1024x128_S1x1024x128_1_0_0 (fun y : (⟨3, ![4, 1024, 128]⟩ : Shape).Idx => turned (cols x0 x1 (k0_pay8 x2) (y 1)) (row x3 (y 1)) (row x4 (y 1)) (row x5 (y 1)) (1280 + 128 * (y 0).val) (y 2)) _ (fun u r l => store48 (k0_pay9 x0 x1) _ x3 x4 x5 (cols x0 x1 (k0_pay8 x2) r) 1280 r (load_sum x0 x1 (k0_pay8 x2) 1280 inb_S1024x2304_S1024x256_0_1280 (by decide) r) u l) x,
    List.forall_mem_cons.2 ⟨fun x => piece_eq (n := 4) (a := 0) (by decide) inb_S4x1024x128_S1x1024x128_0_0_0 (fun y : (⟨3, ![4, 1024, 128]⟩ : Shape).Idx => turned (cols x0 x1 (k0_pay8 x2) (y 1)) (row x3 (y 1)) (row x4 (y 1)) (row x5 (y 1)) (1280 + 128 * (y 0).val) (y 2)) _ (fun u r l => store47 (k0_pay9 x0 x1) _ x3 x4 x5 (cols x0 x1 (k0_pay8 x2) r) 1280 r (load_sum x0 x1 (k0_pay8 x2) 1280 inb_S1024x2304_S1024x256_0_1280 (by decide) r) u l) x,
    fun _ hx => absurd hx List.not_mem_nil⟩⟩⟩⟩

theorem out11_B (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : ¬cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (xs0 : Vec Ideal S1024x2304 .bf16) (e : Fin 4) (r : Fin 1024) (l : Fin 128) :
    out0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l) =
      cols x0 x1 xs0 r (1792 + 128 * e.val + l.val) := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0)]
  refine View.canon_apply_of_pieces (fun y : (⟨3, ![4, 1024, 128]⟩ : Shape).Idx => cols x0 x1 xs0 (y 1) (1792 + 128 * (y 0).val + (y 2).val)) _ ?_ (ix3 e r l) (cover0_B_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 xs0 (ix3 e r l))
  unfold kernelRun0_B
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 4) (a := 3) (by decide) inb_S4x1024x128_S1x1024x128_3_0_0 (fun y : (⟨3, ![4, 1024, 128]⟩ : Shape).Idx => cols x0 x1 xs0 (y 1) (1792 + 128 * (y 0).val + (y 2).val)) _ (fun u r l => store7 (k0_pay9 x0 x1) _ (cols x0 x1 xs0 r) 2048 r (load_sum x0 x1 xs0 2048 inb_S1024x2304_S1024x256_0_2048 (by decide) r) u l) x,
    List.forall_mem_cons.2 ⟨fun x => piece_eq (n := 4) (a := 2) (by decide) inb_S4x1024x128_S1x1024x128_2_0_0 (fun y : (⟨3, ![4, 1024, 128]⟩ : Shape).Idx => cols x0 x1 xs0 (y 1) (1792 + 128 * (y 0).val + (y 2).val)) _ (fun u r l => store6 (k0_pay9 x0 x1) _ (cols x0 x1 xs0 r) 2048 r (load_sum x0 x1 xs0 2048 inb_S1024x2304_S1024x256_0_2048 (by decide) r) u l) x,
    List.forall_mem_cons.2 ⟨fun x => piece_eq (n := 4) (a := 1) (by decide) inb_S4x1024x128_S1x1024x128_1_0_0 (fun y : (⟨3, ![4, 1024, 128]⟩ : Shape).Idx => cols x0 x1 xs0 (y 1) (1792 + 128 * (y 0).val + (y 2).val)) _ (fun u r l => store7 (k0_pay9 x0 x1) _ (cols x0 x1 xs0 r) 1792 r (load_sum x0 x1 xs0 1792 inb_S1024x2304_S1024x256_0_1792 (by decide) r) u l) x,
    List.forall_mem_cons.2 ⟨fun x => piece_eq (n := 4) (a := 0) (by decide) inb_S4x1024x128_S1x1024x128_0_0_0 (fun y : (⟨3, ![4, 1024, 128]⟩ : Shape).Idx => cols x0 x1 xs0 (y 1) (1792 + 128 * (y 0).val + (y 2).val)) _ (fun u r l => store6 (k0_pay9 x0 x1) _ (cols x0 x1 xs0 r) 1792 r (load_sum x0 x1 xs0 1792 inb_S1024x2304_S1024x256_0_1792 (by decide) r) u l) x,
    fun _ hx => absurd hx List.not_mem_nil⟩⟩⟩⟩

theorem out11_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) (e : Fin 4) (r : Fin 1024) (l : Fin 128) :
    out0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l) =
      cols x0 x1 (k0_pay8 x2) r (1792 + 128 * e.val + l.val) := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5)]
  refine View.canon_apply_of_pieces (fun y : (⟨3, ![4, 1024, 128]⟩ : Shape).Idx => cols x0 x1 (k0_pay8 x2) (y 1) (1792 + 128 * (y 0).val + (y 2).val)) _ ?_ (ix3 e r l) (cover0_A_11 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 (ix3 e r l))
  unfold kernelRun0_A
  dsimp only
  sl_unfold_words
  simp only [View.readAt_eq_ld, harg1.read_unread, harg2.read_unread, harg3.read_unread, harg4.read_unread, harg5.read_unread, harg6.read_unread, harg13.read_unread, ld_rows, ld_gain, ld_table, ld_weights, load_stored, pay10_eq, pay11_eq, pay12_eq]
  refine List.forall_mem_cons.2 ⟨fun x => piece_eq (n := 4) (a := 3) (by decide) inb_S4x1024x128_S1x1024x128_3_0_0 (fun y : (⟨3, ![4, 1024, 128]⟩ : Shape).Idx => cols x0 x1 (k0_pay8 x2) (y 1) (1792 + 128 * (y 0).val + (y 2).val)) _ (fun u r l => store7 (k0_pay9 x0 x1) _ (cols x0 x1 (k0_pay8 x2) r) 2048 r (load_sum x0 x1 (k0_pay8 x2) 2048 inb_S1024x2304_S1024x256_0_2048 (by decide) r) u l) x,
    List.forall_mem_cons.2 ⟨fun x => piece_eq (n := 4) (a := 2) (by decide) inb_S4x1024x128_S1x1024x128_2_0_0 (fun y : (⟨3, ![4, 1024, 128]⟩ : Shape).Idx => cols x0 x1 (k0_pay8 x2) (y 1) (1792 + 128 * (y 0).val + (y 2).val)) _ (fun u r l => store6 (k0_pay9 x0 x1) _ (cols x0 x1 (k0_pay8 x2) r) 2048 r (load_sum x0 x1 (k0_pay8 x2) 2048 inb_S1024x2304_S1024x256_0_2048 (by decide) r) u l) x,
    List.forall_mem_cons.2 ⟨fun x => piece_eq (n := 4) (a := 1) (by decide) inb_S4x1024x128_S1x1024x128_1_0_0 (fun y : (⟨3, ![4, 1024, 128]⟩ : Shape).Idx => cols x0 x1 (k0_pay8 x2) (y 1) (1792 + 128 * (y 0).val + (y 2).val)) _ (fun u r l => store7 (k0_pay9 x0 x1) _ (cols x0 x1 (k0_pay8 x2) r) 1792 r (load_sum x0 x1 (k0_pay8 x2) 1792 inb_S1024x2304_S1024x256_0_1792 (by decide) r) u l) x,
    List.forall_mem_cons.2 ⟨fun x => piece_eq (n := 4) (a := 0) (by decide) inb_S4x1024x128_S1x1024x128_0_0_0 (fun y : (⟨3, ![4, 1024, 128]⟩ : Shape).Idx => cols x0 x1 (k0_pay8 x2) (y 1) (1792 + 128 * (y 0).val + (y 2).val)) _ (fun u r l => store6 (k0_pay9 x0 x1) _ (cols x0 x1 (k0_pay8 x2) r) 1792 r (load_sum x0 x1 (k0_pay8 x2) 1792 inb_S1024x2304_S1024x256_0_1792 (by decide) r) u l) x,
    fun _ hx => absurd hx List.not_mem_nil⟩⟩⟩⟩

theorem scratch_A (c : Dev nD) (i : grid0.Coords) (arg1 : Memref sig .tc .vmem S1024x1024 .f32) (harg1 : arg1.IsWhole) (arg2 : Memref sig .tc .vmem S1x1024 .f32) (harg2 : arg2.IsWhole) (arg3 : Memref sig .tc .vmem S1024x2304 .f32) (harg3 : arg3.IsWhole) (arg4 : Memref sig .tc .vmem S1024x128 .f32) (harg4 : arg4.IsWhole) (arg5 : Memref sig .tc .vmem S1024x128 .f32) (harg5 : arg5.IsWhole) (arg6 : Memref sig .tc .vmem S1024x128 .f32) (harg6 : arg6.IsWhole) (arg7 : Memref sig .tc .vmem S4x1024x128 .bf16) (harg7 : arg7.IsWhole) (arg8 : Memref sig .tc .vmem S2x1024x128 .bf16) (harg8 : arg8.IsWhole) (arg9 : Memref sig .tc .vmem S2x1024x128 .bf16) (harg9 : arg9.IsWhole) (arg10 : Memref sig .tc .vmem S4x1024x128 .f32) (harg10 : arg10.IsWhole) (arg11 : Memref sig .tc .vmem S4x1024x128 .f32) (harg11 : arg11.IsWhole) (arg12 : Memref sig .tc .vmem S4x1024x128 .f32) (harg12 : arg12.IsWhole) (arg13 : Memref sig .tc .vmem S1024x2304 .bf16) (harg13 : arg13.IsWhole) (hc0 : cond0_0 i)
    (x0 : Vec Ideal S1024x1024 .f32) (x1 : Vec Ideal S1x1024 .f32) (x2 : Vec Ideal S1024x2304 .f32) (x3 : Vec Ideal S1024x128 .f32) (x4 : Vec Ideal S1024x128 .f32) (x5 : Vec Ideal S1024x128 .f32) :
    sout0_A_0 c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 = k0_pay8 x2 := by
  unfold sout0_A_0 kernelRun0_A
  dsimp only
  sl_unfold_words
  simp only [View.readAt_eq_ld, harg3.read_unread, ld_weights]
  exact load_stored_all _ _

end Cert.Kernel2Ideal.Projections

end
-- ==== Proof.ProjTables.lean ====
/-
  The rotary tables that the projections' host code makes, read entry by entry over the extended reals.
-/
module

public import proofs.«01_k».proof.Proof.Gen.Kernel2Ideal.Frame.Runs
public import proofs.«01_k».proof.Proof.ProjMath
public import Idealize.ShloMosaic.Lib.Pointwise
public import Idealize.ShloMosaic.Lib.Claim

@[expose] public section

noncomputable section

namespace Cert.Kernel2Ideal.Projections

open Cert.Kernel2Ideal Cert.Kernel2Ideal.Gen
open Idealize.ShloMosaic Idealize.ShloMosaic.TcCoe Idealize.SL.Sem

/-- The angles: position times frequency. -/
def angles : FVec Ideal S4096x8 .f32 :=
  mulf (broadcastInDim S4096x8 ![0, 1] bcast_S4096x1_S4096x8_0_1 (broadcastInDim S4096x1 ![0] bcast_S4096_S4096x1_0 (sitofp .f32 (iotaInDim S4096 32 0))))
    (broadcastInDim S4096x8 ![0, 1] bcast_S1x8_S4096x8_0_1 (broadcastInDim S1x8 ![1] bcast_S8_S1x8_1
      (Host.powf (broadcastInDim S8 ![] bcast_S_S8 (constant S_ .f32 0x48F42400#32))
        (Host.divf (Host.negf (addf (broadcastInDim S8 ![] bcast_S_S8 (constant S_ .f32 0x00000000#32))
          (mulf (broadcastInDim S8 ![] bcast_S_S8 (constant S_ .f32 0x40000000#32)) (sitofp .f32 (iotaInDim S8 32 0)))))
          (broadcastInDim S8 ![] bcast_S_S8 (constant S_ .f32 0x41800000#32))))))

/-- One frequency row repeated sixteen times along the lanes. -/
def tiled (v : FVec Ideal S4096x8 .f32) : FVec Ideal S4096x128 .f32 :=
  shapeCast S4096x128 (broadcastInDim S1x4096x16x8 ![0, 1, 2, 3] bcast_S1x4096x1x8_S1x4096x16x8_0_1_2_3
    (shapeCast S1x4096x1x8 v shapeCasts_S4096x8_S1x4096x1x8)) shapeCasts_S1x4096x16x8_S4096x128

theorem lanes_apply {α : Type} (w : S1x4096x16x8.Idx → α) (h : S1x4096x16x8.ShapeCasts S4096x128) (s : Fin 4096) (l : Fin 128) :
    shapeCast S4096x128 w h (ix2 s l) = w (ix4 (0 : Fin 1) s (⟨l.val / 8, by omega⟩ : Fin 16) (⟨l.val % 8, Nat.mod_lt _ (by decide)⟩ : Fin 8)) := by
  have e : Shape.reshapeEquiv h (ix2 s l : S4096x128.Idx) =
      (ix4 (0 : Fin 1) s (⟨l.val / 8, by omega⟩ : Fin 16) (⟨l.val % 8, Nat.mod_lt _ (by decide)⟩ : Fin 8) : S1x4096x16x8.Idx) := by
    apply Shape.reshapeEquiv_eq_of_rowMajor
    rw [Shape.rowMajor_val_two, Shape.rowMajor_val_four]
    show (((0 : ℕ) * 4096 + s.val) * 16 + l.val / 8) * 8 + l.val % 8 = s.val * 128 + l.val
    omega
  exact congrArg w e

theorem column_apply {α : Type} (v : S4096x8.Idx → α) (h : S4096x8.ShapeCasts S1x4096x1x8) (s : Fin 4096) (f : Fin 8) :
    shapeCast S1x4096x1x8 v h (ix4 (0 : Fin 1) s (0 : Fin 1) f) = v (ix2 s f) := by
  have e : Shape.reshapeEquiv h (ix4 (0 : Fin 1) s (0 : Fin 1) f : S1x4096x1x8.Idx) = (ix2 s f : S4096x8.Idx) := by
    apply Shape.reshapeEquiv_eq_of_rowMajor
    rw [Shape.rowMajor_val_two, Shape.rowMajor_val_four]
    show s.val * 8 + f.val = (((0 : ℕ) * 4096 + s.val) * 1 + 0) * 8 + f.val
    omega
  exact congrArg v e

theorem tiled_apply (v : FVec Ideal S4096x8 .f32) (s : Fin 4096) (l : Fin 128) :
    tiled v (ix2 s l) = v (ix2 s ⟨l.val % 8, Nat.mod_lt _ (by decide)⟩) := by
  unfold tiled
  rw [lanes_apply]
  pointwise

theorem angles_apply (s : Fin 4096) (f : Fin 8) : angles (ix2 s f) = Cert.Projections.angle s f := by
  unfold angles
  pointwise
  rfl

theorem tiled_cos (s : Fin 4096) (l : Fin 128) :
    tiled (Host.cos angles) (ix2 s l) = Ideal.cos (Cert.Projections.angle s (l.val % 8)) := by
  rw [tiled_apply]
  exact congrArg Ideal.cos (angles_apply s ⟨l.val % 8, _⟩)

theorem tiled_sin (s : Fin 4096) (l : Fin 128) :
    tiled (Host.sin angles) (ix2 s l) = Ideal.sin (Cert.Projections.angle s (l.val % 8)) := by
  rw [tiled_apply]
  exact congrArg Ideal.sin (angles_apply s ⟨l.val % 8, _⟩)

/-- The lane's place in its head. -/
def place : IVec S128 32 :=
  (fun d : IVec S_ 32 => (fun q : IVec S128 32 => (fun r : IVec S128 32 =>
    select (andi (cmpi .ne (cmpi .slt r (broadcastInDim S128 ![] bcast_S_S128 (constantI S_ 32 0#32))) (broadcastInDim S128 ![] bcast_S_S128 (cmpi .slt d (constantI S_ 32 0#32))))
      (cmpi .ne r (broadcastInDim S128 ![] bcast_S_S128 (constantI S_ 32 0#32)))) (addi r q) r)
    (Host.remsi (iotaInDim S128 32 0) q)) (broadcastInDim S128 ![] bcast_S_S128 d))
  (select (cmpi .eq (constantI S_ 32 64#32) (constantI S_ 32 0#32)) (constantI S_ 32 1#32) (constantI S_ 32 64#32))

theorem place_apply : ∀ l : Fin 128, place (ix1 l) = BitVec.ofNat 32 (l.val % 64) := by
  decide +kernel

def cosT : FVec Ideal S4096x128 .f32 :=
  select (broadcastInDim S4096x128 ![1] bcast_S128_S4096x128_1 (cmpi .slt place (broadcastInDim S128 ![] bcast_S_S128 (constantI S_ 32 16#32))))
    (tiled (Host.cos angles)) (broadcastInDim S4096x128 ![] bcast_S_S4096x128 (constant S_ .f32 0x3F800000#32))

def sinA : FVec Ideal S4096x128 .f32 :=
  select (broadcastInDim S4096x128 ![1] bcast_S128_S4096x128_1 (cmpi .slt place (broadcastInDim S128 ![] bcast_S_S128 (constantI S_ 32 8#32))))
    (Host.negf (tiled (Host.sin angles))) (broadcastInDim S4096x128 ![] bcast_S_S4096x128 (constant S_ .f32 0x00000000#32))

def sinB : FVec Ideal S4096x128 .f32 :=
  select (broadcastInDim S4096x128 ![1] bcast_S128_S4096x128_1
      (andi (cmpi .sge place (broadcastInDim S128 ![] bcast_S_S128 (constantI S_ 32 8#32)))
        (cmpi .slt place (broadcastInDim S128 ![] bcast_S_S128 (constantI S_ 32 16#32)))))
    (tiled (Host.sin angles)) (broadcastInDim S4096x128 ![] bcast_S_S4096x128 (constant S_ .f32 0x00000000#32))

theorem below16 : ∀ l : Fin 128, IntOp.cmpi .slt (place (ix1 l)) 16#32 = if l.val % 64 < 16 then 1#1 else 0#1 := by
  decide +kernel

theorem below8 : ∀ l : Fin 128, IntOp.cmpi .slt (place (ix1 l)) 8#32 = if l.val % 64 < 8 then 1#1 else 0#1 := by
  decide +kernel

theorem from8 : ∀ l : Fin 128, IntOp.cmpi .sge (place (ix1 l)) 8#32 = if l.val % 64 < 8 then 0#1 else 1#1 := by
  decide +kernel

theorem cosT_apply (s : Fin 4096) (l : Fin 128) : cosT (ix2 s l) =
    if l.val % 64 < 16 then Ideal.cos (Cert.Projections.angle s (l.val % 8)) else 1 := by
  unfold cosT
  pointwise
  rw [below16, tiled_cos]
  split <;> rfl

theorem sinA_apply (s : Fin 4096) (l : Fin 128) : sinA (ix2 s l) =
    if l.val % 64 < 8 then -Ideal.sin (Cert.Projections.angle s (l.val % 8)) else 0 := by
  unfold sinA
  pointwise
  rw [below8, tiled_sin]
  split <;> rfl

theorem sinB_apply (s : Fin 4096) (l : Fin 128) : sinB (ix2 s l) =
    if l.val % 64 < 8 then 0 else if l.val % 64 < 16 then Ideal.sin (Cert.Projections.angle s (l.val % 8)) else 0 := by
  unfold sinB
  pointwise
  rw [below16, from8, tiled_sin]
  split <;> split <;> rfl

variable [Facts]
variable (m : (ℓ : Loc nD τ sig) → Buf (Elt Ideal) ℓ) (c : Dev nD)

theorem V_cos : V m c main_v28 = cosT := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

theorem V_sinA : V m c main_v32 = sinA := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

theorem V_sinB : V m c main_v38 = sinB := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  rfl

theorem V_gain (u : Fin 1) (k : Fin 1024) : V m c main_v39 (ix2 u k) = m ((c : Thread nD τ).loc main_arg1) (ix1 k) := by
  unfold V
  simp only [hostOps0, hostOps0_1, hostOps0_2, hostOps0_3, hostOps0_4, hostOps0_5, hostOps0_6, hostOps0_7, hostOps0_8,
    List.flatten_cons, List.flatten_nil, List.append_nil, List.cons_append, List.nil_append]
  after_results_simp
  have e : Shape.reshapeEquiv shapeCasts_S1024_S1x1024 (ix2 u k : S1x1024.Idx) = (ix1 k : S1024.Idx) := by
    apply Shape.reshapeEquiv_eq_of_rowMajor
    rw [Shape.rowMajor_val_two, Shape.rowMajor_val_one]
    show k.val = u.val * 1024 + k.val
    omega
  exact congrArg (m ((c : Thread nD τ).loc main_arg1)) e

end Cert.Kernel2Ideal.Projections

end
-- ==== Proof.ProjReference.lean ====
/-
  The reference of the input projections, read entry by entry over the extended reals.
-/
module

public import proofs.«01_k».proof.Proof.Gen.Reference2Ideal.Run
public import proofs.«01_k».proof.Proof.ProjMath
public import Idealize.ShloMosaic.Lib.Pointwise

@[expose] public section

noncomputable section

namespace Cert.Reference2Ideal.Projections

open Cert.Reference2Ideal Cert.Reference2Ideal.Gen Cert.Projections
open Idealize.ShloMosaic Idealize.ShloMosaic.TcCoe Idealize.SL.Sem

/-- The angles: position times frequency. -/
def angles : FVec Ideal S4096x8 .f32 :=
  (mulf (broadcastInDim S4096x8 ![0, 1] bcast_S4096x1_S4096x8_0_1 (broadcastInDim S4096x1 ![0] bcast_S4096_S4096x1_0 (sitofp .f32 (iotaInDim S4096 32 0)))) (broadcastInDim S4096x8 ![0, 1] bcast_S1x8_S4096x8_0_1 (broadcastInDim S1x8 ![1] bcast_S8_S1x8_1 (Host.powf (broadcastInDim S8 ![] bcast_S_S8 (constant S_ .f32 0x48F42400#32)) (Host.divf (Host.negf (addf (broadcastInDim S8 ![] bcast_S_S8 (constant S_ .f32 0x00000000#32)) (mulf (broadcastInDim S8 ![] bcast_S_S8 (constant S_ .f32 0x40000000#32)) (sitofp .f32 (iotaInDim S8 32 0))))) (broadcastInDim S8 ![] bcast_S_S8 (constant S_ .f32 0x41800000#32)))))))

theorem angles_apply (s : Fin 4096) (f : Fin 8) : angles (ix2 s f) = angle s f := by
  unfold angles
  pointwise
  rfl

/-- All the projected columns. -/
def prod (x : FVec Ideal S16384x1024 .f32) (g : FVec Ideal S1024 .f32) (w : FVec Ideal S1024x2304 .f32) : FVec Ideal S4x4096x2304 .f32 :=
  (Host.dotGeneral dot_S4x4096x1024_S1024x2304_S4x4096x2304_2_0_01_1_n_n none (shapeCast _ (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) shapeCasts_S16384x1024_S4x4096x1024) w)

theorem cast_rows {α : Type} (v : S16384x1024.Idx → α) (h : S16384x1024.ShapeCasts S4x4096x1024) (b : Fin 4) (s : Fin 4096) (k : Fin 1024) :
    shapeCast S4x4096x1024 v h (ix3 b s k) = v (ix2 (⟨b.val * 4096 + s.val, by omega⟩ : Fin 16384) k) := by
  have e : Shape.reshapeEquiv h (ix3 b s k : S4x4096x1024.Idx) = (ix2 (⟨b.val * 4096 + s.val, by omega⟩ : Fin 16384) k : S16384x1024.Idx) := by
    apply Shape.reshapeEquiv_eq_of_rowMajor
    rw [Shape.rowMajor_val_two, Shape.rowMajor_val_three]
    show (b.val * 4096 + s.val) * 1024 + k.val = (b.val * 4096 + s.val) * 1024 + k.val
    omega
  exact congrArg v e

theorem prod_apply (x : FVec Ideal S16384x1024 .f32) (g : FVec Ideal S1024 .f32) (w : FVec Ideal S1024x2304 .f32)
    (b : Fin 4) (s : Fin 4096) (n : Fin 2304) :
    prod x g w (ix3 b s n) = col (fun t k => x (ix2 t k)) (fun k => g (ix1 k)) (fun k n => w (ix2 k n)) ⟨b.val * 4096 + s.val, by omega⟩ n := by
  have en : (⟨n.val % 2304, Nat.mod_lt _ (by decide)⟩ : Fin 2304) = n := Fin.ext (Nat.mod_eq_of_lt n.isLt)
  unfold prod
  pointwise
  unfold col
  rw [en]
  rfl

/-- The heads with their first sixteen lanes rotated. -/
def rope8 (T : FVec Ideal S4x4096x8x64 .f32) : FVec Ideal S4x4096x8x64 .f32 :=
  concatenate S4x4096x8x64 3
    [⟨S4x4096x8x8, (subf (mulf (extractStridedSlice S4x4096x8x8 ![0, 0, 0, 0] T slices_S4x4096x8x64_S4x4096x8x8_0_0_0_0) (broadcastInDim S4x4096x8x8 ![0, 1, 2, 3] bcast_S1x4096x1x8_S4x4096x8x8_0_1_2_3 (broadcastInDim S1x4096x1x8 ![1, 3] bcast_S4096x8_S1x4096x1x8_1_3 (Host.cos angles))))
        (mulf (extractStridedSlice S4x4096x8x8 ![0, 0, 0, 8] T slices_S4x4096x8x64_S4x4096x8x8_0_0_0_8) (broadcastInDim S4x4096x8x8 ![0, 1, 2, 3] bcast_S1x4096x1x8_S4x4096x8x8_0_1_2_3 (broadcastInDim S1x4096x1x8 ![1, 3] bcast_S4096x8_S1x4096x1x8_1_3 (Host.sin angles)))))⟩,
     ⟨S4x4096x8x8, (addf (mulf (extractStridedSlice S4x4096x8x8 ![0, 0, 0, 8] T slices_S4x4096x8x64_S4x4096x8x8_0_0_0_8) (broadcastInDim S4x4096x8x8 ![0, 1, 2, 3] bcast_S1x4096x1x8_S4x4096x8x8_0_1_2_3 (broadcastInDim S1x4096x1x8 ![1, 3] bcast_S4096x8_S1x4096x1x8_1_3 (Host.cos angles))))
        (mulf (extractStridedSlice S4x4096x8x8 ![0, 0, 0, 0] T slices_S4x4096x8x64_S4x4096x8x8_0_0_0_0) (broadcastInDim S4x4096x8x8 ![0, 1, 2, 3] bcast_S1x4096x1x8_S4x4096x8x8_0_1_2_3 (broadcastInDim S1x4096x1x8 ![1, 3] bcast_S4096x8_S1x4096x1x8_1_3 (Host.sin angles)))))⟩,
     ⟨S4x4096x8x48, (extractStridedSlice S4x4096x8x48 ![0, 0, 0, 16] T slices_S4x4096x8x64_S4x4096x8x48_0_0_0_16)⟩]
    concatenates_S4x4096x8x8_S4x4096x8x8_S4x4096x8x48_S4x4096x8x64_d3

theorem rope8_apply (T : FVec Ideal S4x4096x8x64 .f32) (b : Fin 4) (s : Fin 4096) (h : Fin 8) (p : ℕ → EReal) (base : ℕ)
    (hT : ∀ j : Fin 64, T (ix4 b s h j) = p (base + j.val)) (j : Fin 64) :
    rope8 T (ix4 b s h j) = rot p s base j := by
  have eA : ∀ f : Fin 8, angles (ix2 s f) = angle s f := angles_apply s
  unfold rope8
  pointwise
  simp only [hT, eA]
  unfold rot
  by_cases h8 : j.val < 8
  · simp only [dif_pos h8, if_pos h8]
    rw [show base + (8 + j.val) = base + j.val + 8 by omega]
  · by_cases h16 : j.val < 16
    · simp only [dif_neg h8, if_neg h8, if_pos h16, dif_pos (show j.val - 8 < 8 by omega)]
      rw [show base + (8 + (j.val - 8)) = base + j.val by omega, show base + (j.val - 8) = base + j.val - 8 by omega]
    · simp only [dif_neg h8, if_neg h8, if_neg h16, dif_neg (show ¬ j.val - 8 < 8 by omega)]
      rw [show base + (16 + (j.val - 8 - 8)) = base + j.val by omega]

/-- The heads with their first sixteen lanes rotated. -/
def rope2 (T : FVec Ideal S4x4096x2x64 .f32) : FVec Ideal S4x4096x2x64 .f32 :=
  concatenate S4x4096x2x64 3
    [⟨S4x4096x2x8, (subf (mulf (extractStridedSlice S4x4096x2x8 ![0, 0, 0, 0] T slices_S4x4096x2x64_S4x4096x2x8_0_0_0_0) (broadcastInDim S4x4096x2x8 ![0, 1, 2, 3] bcast_S1x4096x1x8_S4x4096x2x8_0_1_2_3 (broadcastInDim S1x4096x1x8 ![1, 3] bcast_S4096x8_S1x4096x1x8_1_3 (Host.cos angles))))
        (mulf (extractStridedSlice S4x4096x2x8 ![0, 0, 0, 8] T slices_S4x4096x2x64_S4x4096x2x8_0_0_0_8) (broadcastInDim S4x4096x2x8 ![0, 1, 2, 3] bcast_S1x4096x1x8_S4x4096x2x8_0_1_2_3 (broadcastInDim S1x4096x1x8 ![1, 3] bcast_S4096x8_S1x4096x1x8_1_3 (Host.sin angles)))))⟩,
     ⟨S4x4096x2x8, (addf (mulf (extractStridedSlice S4x4096x2x8 ![0, 0, 0, 8] T slices_S4x4096x2x64_S4x4096x2x8_0_0_0_8) (broadcastInDim S4x4096x2x8 ![0, 1, 2, 3] bcast_S1x4096x1x8_S4x4096x2x8_0_1_2_3 (broadcastInDim S1x4096x1x8 ![1, 3] bcast_S4096x8_S1x4096x1x8_1_3 (Host.cos angles))))
        (mulf (extractStridedSlice S4x4096x2x8 ![0, 0, 0, 0] T slices_S4x4096x2x64_S4x4096x2x8_0_0_0_0) (broadcastInDim S4x4096x2x8 ![0, 1, 2, 3] bcast_S1x4096x1x8_S4x4096x2x8_0_1_2_3 (broadcastInDim S1x4096x1x8 ![1, 3] bcast_S4096x8_S1x4096x1x8_1_3 (Host.sin angles)))))⟩,
     ⟨S4x4096x2x48, (extractStridedSlice S4x4096x2x48 ![0, 0, 0, 16] T slices_S4x4096x2x64_S4x4096x2x48_0_0_0_16)⟩]
    concatenates_S4x4096x2x8_S4x4096x2x8_S4x4096x2x48_S4x4096x2x64_d3

theorem rope2_apply (T : FVec Ideal S4x4096x2x64 .f32) (b : Fin 4) (s : Fin 4096) (h : Fin 2) (p : ℕ → EReal) (base : ℕ)
    (hT : ∀ j : Fin 64, T (ix4 b s h j) = p (base + j.val)) (j : Fin 64) :
    rope2 T (ix4 b s h j) = rot p s base j := by
  have eA : ∀ f : Fin 8, angles (ix2 s f) = angle s f := angles_apply s
  unfold rope2
  pointwise
  simp only [hT, eA]
  unfold rot
  by_cases h8 : j.val < 8
  · simp only [dif_pos h8, if_pos h8]
    rw [show base + (8 + j.val) = base + j.val + 8 by omega]
  · by_cases h16 : j.val < 16
    · simp only [dif_neg h8, if_neg h8, if_pos h16, dif_pos (show j.val - 8 < 8 by omega)]
      rw [show base + (8 + (j.val - 8)) = base + j.val by omega, show base + (j.val - 8) = base + j.val - 8 by omega]
    · simp only [dif_neg h8, if_neg h8, if_neg h16, dif_neg (show ¬ j.val - 8 < 8 by omega)]
      rw [show base + (16 + (j.val - 8 - 8)) = base + j.val by omega]

theorem cast_heads8 {α : Type} (v : S4x4096x512.Idx → α) (h : S4x4096x512.ShapeCasts S4x4096x8x64) (b : Fin 4) (s : Fin 4096) (i : Fin 8) (j : Fin 64) :
    shapeCast S4x4096x8x64 v h (ix4 b s i j) = v (ix3 b s (⟨64 * i.val + j.val, by omega⟩ : Fin 512)) := by
  have e : Shape.reshapeEquiv h (ix4 b s i j : S4x4096x8x64.Idx) = (ix3 b s (⟨64 * i.val + j.val, by omega⟩ : Fin 512) : S4x4096x512.Idx) := by
    apply Shape.reshapeEquiv_eq_of_rowMajor
    rw [Shape.rowMajor_val_three, Shape.rowMajor_val_four]
    show (b.val * 4096 + s.val) * 512 + (64 * i.val + j.val) = ((b.val * 4096 + s.val) * 8 + i.val) * 64 + j.val
    omega
  exact congrArg v e

theorem cast_heads2 {α : Type} (v : S4x4096x128.Idx → α) (h : S4x4096x128.ShapeCasts S4x4096x2x64) (b : Fin 4) (s : Fin 4096) (i : Fin 2) (j : Fin 64) :
    shapeCast S4x4096x2x64 v h (ix4 b s i j) = v (ix3 b s (⟨64 * i.val + j.val, by omega⟩ : Fin 128)) := by
  have e : Shape.reshapeEquiv h (ix4 b s i j : S4x4096x2x64.Idx) = (ix3 b s (⟨64 * i.val + j.val, by omega⟩ : Fin 128) : S4x4096x128.Idx) := by
    apply Shape.reshapeEquiv_eq_of_rowMajor
    rw [Shape.rowMajor_val_three, Shape.rowMajor_val_four]
    show (b.val * 4096 + s.val) * 128 + (64 * i.val + j.val) = ((b.val * 4096 + s.val) * 2 + i.val) * 64 + j.val
    omega
  exact congrArg v e

theorem cast_slabs8 {α : Type} (v : S4x4096x8x64.Idx → α) (h : S4x4096x8x64.ShapeCasts S16384x4x128) (t : Fin 16384) (a : Fin 4) (l : Fin 128) :
    shapeCast S16384x4x128 v h (ix3 t a l) = v (ix4 (⟨t.val / 4096, by omega⟩ : Fin 4) (⟨t.val % 4096, Nat.mod_lt _ (by decide)⟩ : Fin 4096)
      (⟨2 * a.val + l.val / 64, by omega⟩ : Fin 8) (⟨l.val % 64, Nat.mod_lt _ (by decide)⟩ : Fin 64)) := by
  have e : Shape.reshapeEquiv h (ix3 t a l : S16384x4x128.Idx) = (ix4 (⟨t.val / 4096, by omega⟩ : Fin 4) (⟨t.val % 4096, Nat.mod_lt _ (by decide)⟩ : Fin 4096)
      (⟨2 * a.val + l.val / 64, by omega⟩ : Fin 8) (⟨l.val % 64, Nat.mod_lt _ (by decide)⟩ : Fin 64) : S4x4096x8x64.Idx) := by
    apply Shape.reshapeEquiv_eq_of_rowMajor
    rw [Shape.rowMajor_val_three, Shape.rowMajor_val_four]
    show ((t.val / 4096 * 4096 + t.val % 4096) * 8 + (2 * a.val + l.val / 64)) * 64 + l.val % 64 = (t.val * 4 + a.val) * 128 + l.val
    omega
  exact congrArg v e

theorem cast_slabs2 {α : Type} (v : S4x4096x2x128.Idx → α) (h : S4x4096x2x128.ShapeCasts S16384x2x128) (t : Fin 16384) (a : Fin 2) (l : Fin 128) :
    shapeCast S16384x2x128 v h (ix3 t a l) = v (ix4 (⟨t.val / 4096, by omega⟩ : Fin 4) (⟨t.val % 4096, Nat.mod_lt _ (by decide)⟩ : Fin 4096) a l) := by
  have e : Shape.reshapeEquiv h (ix3 t a l : S16384x2x128.Idx) = (ix4 (⟨t.val / 4096, by omega⟩ : Fin 4) (⟨t.val % 4096, Nat.mod_lt _ (by decide)⟩ : Fin 4096) a l : S4x4096x2x128.Idx) := by
    apply Shape.reshapeEquiv_eq_of_rowMajor
    rw [Shape.rowMajor_val_three, Shape.rowMajor_val_four]
    show ((t.val / 4096 * 4096 + t.val % 4096) * 2 + a.val) * 128 + l.val = (t.val * 2 + a.val) * 128 + l.val
    omega
  exact congrArg v e

theorem transpose_entry {α : Type} (v : S16384x4x128.Idx → α) (h) (a : Fin 4) (t : Fin 16384) (l : Fin 128) :
    transpose S4x16384x128 [1, 0, 2] v h (ix3 a t l) = v (ix3 t a l) := by
  pointwise

theorem transpose_entry2 {α : Type} (v : S16384x2x128.Idx → α) (h) (a : Fin 2) (t : Fin 16384) (l : Fin 128) :
    transpose S2x16384x128 [1, 0, 2] v h (ix3 a t l) = v (ix3 t a l) := by
  pointwise

/-- Heads of 64 lanes, two to a slab of 128, slab before row. -/
def slabs8 (T : FVec Ideal S4x4096x8x64 .f32) : FVec Ideal S4x16384x128 .f32 :=
  transpose S4x16384x128 [1, 0, 2] (shapeCast _ T shapeCasts_S4x4096x8x64_S16384x4x128) transposes_S16384x4x128_S4x16384x128_1_0_2

theorem slabs8_apply (T : FVec Ideal S4x4096x8x64 .f32) (a : Fin 4) (t : Fin 16384) (l : Fin 128) :
    slabs8 T (ix3 a t l) = T (ix4 (⟨t.val / 4096, by omega⟩ : Fin 4) (⟨t.val % 4096, Nat.mod_lt _ (by decide)⟩ : Fin 4096)
      (⟨2 * a.val + l.val / 64, by omega⟩ : Fin 8) (⟨l.val % 64, Nat.mod_lt _ (by decide)⟩ : Fin 64)) := by
  unfold slabs8
  rw [transpose_entry]
  exact cast_slabs8 T _ t a l

/-- Heads of 64 lanes, each written twice over a slab of 128, slab before row. -/
def slabs2 (T : FVec Ideal S4x4096x2x64 .f32) : FVec Ideal S2x16384x128 .f32 :=
  transpose S2x16384x128 [1, 0, 2] (shapeCast _ (concatenate S4x4096x2x128 3 [⟨S4x4096x2x64, T⟩, ⟨S4x4096x2x64, T⟩] concatenates_S4x4096x2x64_S4x4096x2x64_S4x4096x2x128_d3)
    shapeCasts_S4x4096x2x128_S16384x2x128) transposes_S16384x2x128_S2x16384x128_1_0_2

theorem slabs2_apply (T : FVec Ideal S4x4096x2x64 .f32) (a : Fin 2) (t : Fin 16384) (l : Fin 128) :
    slabs2 T (ix3 a t l) = T (ix4 (⟨t.val / 4096, by omega⟩ : Fin 4) (⟨t.val % 4096, Nat.mod_lt _ (by decide)⟩ : Fin 4096)
      a (⟨l.val % 64, Nat.mod_lt _ (by decide)⟩ : Fin 64)) := by
  unfold slabs2
  rw [transpose_entry2]
  refine (cast_slabs2 _ _ t a l).trans ?_
  pointwise
  split
  · next h => exact congrArg T (congrArg _ (Fin.ext (Nat.mod_eq_of_lt h).symm))
  · next h => exact congrArg T (congrArg _ (Fin.ext (show l.val - 64 = l.val % 64 by omega)))

def columns (x : FVec Ideal S16384x1024 .f32) (g : FVec Ideal S1024 .f32) (w : FVec Ideal S1024x2304 .f32) (t : Fin 16384) (n : ℕ) : EReal :=
  col (fun t k => x (ix2 t k)) (fun k => g (ix1 k)) (fun k n => w (ix2 k n)) t n

theorem prod_at (x : FVec Ideal S16384x1024 .f32) (g : FVec Ideal S1024 .f32) (w : FVec Ideal S1024x2304 .f32)
    (t : Fin 16384) (n : ℕ) (hn : n < 2304) :
    prod x g w (ix3 (⟨t.val / 4096, by omega⟩ : Fin 4) (⟨t.val % 4096, Nat.mod_lt _ (by decide)⟩ : Fin 4096) (⟨n, hn⟩ : Fin 2304)) = columns x g w t n := by
  rw [prod_apply]
  unfold columns
  exact congrArg (fun r => col _ _ _ r n) (Fin.ext (show t.val / 4096 * 4096 + t.val % 4096 = t.val by omega))

def qa (x : FVec Ideal S16384x1024 .f32) (g : FVec Ideal S1024 .f32) (w : FVec Ideal S1024x2304 .f32) : FVec Ideal S4x4096x8x64 .f32 :=
  shapeCast _ (extractStridedSlice S4x4096x512 ![0, 0, 0] (prod x g w) slices_S4x4096x2304_S4x4096x512_0_0_0) shapeCasts_S4x4096x512_S4x4096x8x64

theorem qa_apply (x : FVec Ideal S16384x1024 .f32) (g : FVec Ideal S1024 .f32) (w : FVec Ideal S1024x2304 .f32)
    (t : Fin 16384) (h : Fin 8) (j : Fin 64) :
    qa x g w (ix4 (⟨t.val / 4096, by omega⟩ : Fin 4) (⟨t.val % 4096, Nat.mod_lt _ (by decide)⟩ : Fin 4096) h j) =
      columns x g w t (64 * h.val + j.val) := by
  unfold qa
  rw [cast_heads8]
  pointwise
  rw [prod_at]

def ka (x : FVec Ideal S16384x1024 .f32) (g : FVec Ideal S1024 .f32) (w : FVec Ideal S1024x2304 .f32) : FVec Ideal S4x4096x2x64 .f32 :=
  shapeCast _ (extractStridedSlice S4x4096x128 ![0, 0, 512] (prod x g w) slices_S4x4096x2304_S4x4096x128_0_0_512) shapeCasts_S4x4096x128_S4x4096x2x64

theorem ka_apply (x : FVec Ideal S16384x1024 .f32) (g : FVec Ideal S1024 .f32) (w : FVec Ideal S1024x2304 .f32)
    (t : Fin 16384) (h : Fin 2) (j : Fin 64) :
    ka x g w (ix4 (⟨t.val / 4096, by omega⟩ : Fin 4) (⟨t.val % 4096, Nat.mod_lt _ (by decide)⟩ : Fin 4096) h j) =
      columns x g w t (512 + 64 * h.val + j.val) := by
  unfold ka
  rw [cast_heads2]
  pointwise
  rw [prod_at]
  rw [Nat.add_assoc]

def va (x : FVec Ideal S16384x1024 .f32) (g : FVec Ideal S1024 .f32) (w : FVec Ideal S1024x2304 .f32) : FVec Ideal S4x4096x2x64 .f32 :=
  shapeCast _ (extractStridedSlice S4x4096x128 ![0, 0, 640] (prod x g w) slices_S4x4096x2304_S4x4096x128_0_0_640) shapeCasts_S4x4096x128_S4x4096x2x64

theorem va_apply (x : FVec Ideal S16384x1024 .f32) (g : FVec Ideal S1024 .f32) (w : FVec Ideal S1024x2304 .f32)
    (t : Fin 16384) (h : Fin 2) (j : Fin 64) :
    va x g w (ix4 (⟨t.val / 4096, by omega⟩ : Fin 4) (⟨t.val % 4096, Nat.mod_lt _ (by decide)⟩ : Fin 4096) h j) =
      columns x g w t (640 + 64 * h.val + j.val) := by
  unfold va
  rw [cast_heads2]
  pointwise
  rw [prod_at]
  rw [Nat.add_assoc]

def qb (x : FVec Ideal S16384x1024 .f32) (g : FVec Ideal S1024 .f32) (w : FVec Ideal S1024x2304 .f32) : FVec Ideal S4x4096x8x64 .f32 :=
  shapeCast _ (extractStridedSlice S4x4096x512 ![0, 0, 768] (prod x g w) slices_S4x4096x2304_S4x4096x512_0_0_768) shapeCasts_S4x4096x512_S4x4096x8x64

theorem qb_apply (x : FVec Ideal S16384x1024 .f32) (g : FVec Ideal S1024 .f32) (w : FVec Ideal S1024x2304 .f32)
    (t : Fin 16384) (h : Fin 8) (j : Fin 64) :
    qb x g w (ix4 (⟨t.val / 4096, by omega⟩ : Fin 4) (⟨t.val % 4096, Nat.mod_lt _ (by decide)⟩ : Fin 4096) h j) =
      columns x g w t (768 + 64 * h.val + j.val) := by
  unfold qb
  rw [cast_heads8]
  pointwise
  rw [prod_at]
  rw [Nat.add_assoc]

def kb (x : FVec Ideal S16384x1024 .f32) (g : FVec Ideal S1024 .f32) (w : FVec Ideal S1024x2304 .f32) : FVec Ideal S4x4096x8x64 .f32 :=
  shapeCast _ (extractStridedSlice S4x4096x512 ![0, 0, 1280] (prod x g w) slices_S4x4096x2304_S4x4096x512_0_0_1280) shapeCasts_S4x4096x512_S4x4096x8x64

theorem kb_apply (x : FVec Ideal S16384x1024 .f32) (g : FVec Ideal S1024 .f32) (w : FVec Ideal S1024x2304 .f32)
    (t : Fin 16384) (h : Fin 8) (j : Fin 64) :
    kb x g w (ix4 (⟨t.val / 4096, by omega⟩ : Fin 4) (⟨t.val % 4096, Nat.mod_lt _ (by decide)⟩ : Fin 4096) h j) =
      columns x g w t (1280 + 64 * h.val + j.val) := by
  unfold kb
  rw [cast_heads8]
  pointwise
  rw [prod_at]
  rw [Nat.add_assoc]

def vb (x : FVec Ideal S16384x1024 .f32) (g : FVec Ideal S1024 .f32) (w : FVec Ideal S1024x2304 .f32) : FVec Ideal S4x4096x8x64 .f32 :=
  shapeCast _ (extractStridedSlice S4x4096x512 ![0, 0, 1792] (prod x g w) slices_S4x4096x2304_S4x4096x512_0_0_1792) shapeCasts_S4x4096x512_S4x4096x8x64

theorem vb_apply (x : FVec Ideal S16384x1024 .f32) (g : FVec Ideal S1024 .f32) (w : FVec Ideal S1024x2304 .f32)
    (t : Fin 16384) (h : Fin 8) (j : Fin 64) :
    vb x g w (ix4 (⟨t.val / 4096, by omega⟩ : Fin 4) (⟨t.val % 4096, Nat.mod_lt _ (by decide)⟩ : Fin 4096) h j) =
      columns x g w t (1792 + 64 * h.val + j.val) := by
  unfold vb
  rw [cast_heads8]
  pointwise
  rw [prod_at]
  rw [Nat.add_assoc]

variable (m : (ℓ : Loc nD τ sig) → Buf (Elt Ideal) ℓ) (c : Dev nD)

/-- The launch contents of the arguments. -/
abbrev X : FVec Ideal S16384x1024 .f32 := m ((c.tc : Thread nD τ).loc main_arg0)
abbrev G : FVec Ideal S1024 .f32 := m ((c.tc : Thread nD τ).loc main_arg1)
abbrev W : FVec Ideal S1024x2304 .f32 := m ((c.tc : Thread nD τ).loc main_arg2)

/-- A query scaled by the inverse root of the head's width and divided by the logarithm of two. -/
def scaled (T : FVec Ideal S4x4096x8x64 .f32) : FVec Ideal S4x4096x8x64 .f32 :=
  Host.divf (mulf T (broadcastInDim S4x4096x8x64 ![] bcast_S_S4x4096x8x64 (constant S_ .f32 0x3E000000#32)))
    (broadcastInDim S4x4096x8x64 ![] bcast_S_S4x4096x8x64 (Host.log (constant S_ .f32 0x40000000#32)))

theorem eighth : Ideal.ofBits .f32 0x3E000000#32 = (((1 : ℝ) / 8 : ℝ) : EReal) := by
  simp [Ideal.ofBits, Ideal.ieee, -EReal.coe_mul]; norm_num

theorem two : Ideal.ofBits .f32 0x40000000#32 = ((2 : ℝ) : EReal) := by
  simp [Ideal.ofBits, Ideal.ieee, -EReal.coe_mul]; norm_num

theorem scaled_apply (T : FVec Ideal S4x4096x8x64 .f32) (j : S4x4096x8x64.Idx) : scaled T j = T j * (((8 * Real.log 2)⁻¹ : ℝ) : EReal) := by
  have hl : 0 < Real.log 2 := Real.log_pos (by norm_num)
  unfold scaled
  pointwise
  rw [eighth, two, Ideal.log_coe, if_neg (by norm_num), Ideal.div_coe hl.ne', mul_assoc, ← EReal.coe_mul]
  refine congrArg (fun q : ℝ => T j * (q : EReal)) ?_
  rw [mul_inv]
  norm_num

theorem qa_eq : Cert.Reference2Ideal.Value.res_main_v63 m c = slabs8 (scaled (rope8 (qa (X m c) (G m c) (W m c)))) := rfl

theorem ka_eq : Cert.Reference2Ideal.Value.res_main_v84 m c = slabs2 (rope2 (ka (X m c) (G m c) (W m c))) := rfl

theorem qb_eq : Cert.Reference2Ideal.Value.res_main_v113 m c = slabs8 (scaled (rope8 (qb (X m c) (G m c) (W m c)))) := rfl

theorem kb_eq : Cert.Reference2Ideal.Value.res_main_v132 m c = slabs8 (rope8 (kb (X m c) (G m c) (W m c))) := rfl

theorem qa_out (x : FVec Ideal S16384x1024 .f32) (g : FVec Ideal S1024 .f32) (w : FVec Ideal S1024x2304 .f32) (a : Fin 4) (t : Fin 16384) (l : Fin 128) :
    slabs8 (scaled (rope8 (qa x g w))) (ix3 a t l) =
      rot (columns x g w t) (t.val % 4096) (64 * (2 * a.val + l.val / 64)) (l.val % 64) * (((8 * Real.log 2)⁻¹ : ℝ) : EReal) := by
  have key : ∀ j : Fin 64, qa x g w (ix4 (⟨t.val / 4096, by omega⟩ : Fin 4) (⟨t.val % 4096, Nat.mod_lt _ (by decide)⟩ : Fin 4096) (⟨2 * a.val + l.val / 64, by omega⟩ : Fin 8) j) = columns x g w t (64 * (2 * a.val + l.val / 64) + j.val) := fun j => by
    rw [qa_apply]
  rw [slabs8_apply, scaled_apply, rope8_apply (qa x g w) (⟨t.val / 4096, by omega⟩ : Fin 4) (⟨t.val % 4096, Nat.mod_lt _ (by decide)⟩ : Fin 4096) (⟨2 * a.val + l.val / 64, by omega⟩ : Fin 8) _ _ key (⟨l.val % 64, Nat.mod_lt _ (by decide)⟩ : Fin 64)]

theorem ka_out (x : FVec Ideal S16384x1024 .f32) (g : FVec Ideal S1024 .f32) (w : FVec Ideal S1024x2304 .f32) (a : Fin 2) (t : Fin 16384) (l : Fin 128) :
    slabs2 (rope2 (ka x g w)) (ix3 a t l) = rot (columns x g w t) (t.val % 4096) (512 + 64 * a.val) (l.val % 64) := by
  have key : ∀ j : Fin 64, ka x g w (ix4 (⟨t.val / 4096, by omega⟩ : Fin 4) (⟨t.val % 4096, Nat.mod_lt _ (by decide)⟩ : Fin 4096) a j) = columns x g w t (512 + 64 * a.val + j.val) := fun j => by
    rw [ka_apply]
  rw [slabs2_apply, rope2_apply (ka x g w) (⟨t.val / 4096, by omega⟩ : Fin 4) (⟨t.val % 4096, Nat.mod_lt _ (by decide)⟩ : Fin 4096) a _ _ key (⟨l.val % 64, Nat.mod_lt _ (by decide)⟩ : Fin 64)]

theorem va_out (x : FVec Ideal S16384x1024 .f32) (g : FVec Ideal S1024 .f32) (w : FVec Ideal S1024x2304 .f32) (a : Fin 2) (t : Fin 16384) (l : Fin 128) :
    slabs2 (va x g w) (ix3 a t l) = columns x g w t (640 + 64 * a.val + l.val % 64) := by
  rw [slabs2_apply]
  exact va_apply x g w t a (⟨l.val % 64, Nat.mod_lt _ (by decide)⟩ : Fin 64)

theorem qb_out (x : FVec Ideal S16384x1024 .f32) (g : FVec Ideal S1024 .f32) (w : FVec Ideal S1024x2304 .f32) (a : Fin 4) (t : Fin 16384) (l : Fin 128) :
    slabs8 (scaled (rope8 (qb x g w))) (ix3 a t l) =
      rot (columns x g w t) (t.val % 4096) (768 + 64 * (2 * a.val + l.val / 64)) (l.val % 64) * (((8 * Real.log 2)⁻¹ : ℝ) : EReal) := by
  have key : ∀ j : Fin 64, qb x g w (ix4 (⟨t.val / 4096, by omega⟩ : Fin 4) (⟨t.val % 4096, Nat.mod_lt _ (by decide)⟩ : Fin 4096) (⟨2 * a.val + l.val / 64, by omega⟩ : Fin 8) j) = columns x g w t (768 + 64 * (2 * a.val + l.val / 64) + j.val) := fun j => by
    rw [qb_apply]
  rw [slabs8_apply, scaled_apply, rope8_apply (qb x g w) (⟨t.val / 4096, by omega⟩ : Fin 4) (⟨t.val % 4096, Nat.mod_lt _ (by decide)⟩ : Fin 4096) (⟨2 * a.val + l.val / 64, by omega⟩ : Fin 8) _ _ key (⟨l.val % 64, Nat.mod_lt _ (by decide)⟩ : Fin 64)]

theorem kb_out (x : FVec Ideal S16384x1024 .f32) (g : FVec Ideal S1024 .f32) (w : FVec Ideal S1024x2304 .f32) (a : Fin 4) (t : Fin 16384) (l : Fin 128) :
    slabs8 (rope8 (kb x g w)) (ix3 a t l) =
      rot (columns x g w t) (t.val % 4096) (1280 + 64 * (2 * a.val + l.val / 64)) (l.val % 64) := by
  have key : ∀ j : Fin 64, kb x g w (ix4 (⟨t.val / 4096, by omega⟩ : Fin 4) (⟨t.val % 4096, Nat.mod_lt _ (by decide)⟩ : Fin 4096) (⟨2 * a.val + l.val / 64, by omega⟩ : Fin 8) j) = columns x g w t (1280 + 64 * (2 * a.val + l.val / 64) + j.val) := fun j => by
    rw [kb_apply]
  rw [slabs8_apply, rope8_apply (kb x g w) (⟨t.val / 4096, by omega⟩ : Fin 4) (⟨t.val % 4096, Nat.mod_lt _ (by decide)⟩ : Fin 4096) (⟨2 * a.val + l.val / 64, by omega⟩ : Fin 8) _ _ key (⟨l.val % 64, Nat.mod_lt _ (by decide)⟩ : Fin 64)]

theorem vb_out (x : FVec Ideal S16384x1024 .f32) (g : FVec Ideal S1024 .f32) (w : FVec Ideal S1024x2304 .f32) (a : Fin 4) (t : Fin 16384) (l : Fin 128) :
    slabs8 (vb x g w) (ix3 a t l) = columns x g w t (1792 + 128 * a.val + l.val) := by
  rw [slabs8_apply, vb_apply]
  refine congrArg (columns x g w t) ?_
  show 1792 + 64 * (2 * a.val + l.val / 64) + l.val % 64 = 1792 + 128 * a.val + l.val
  omega

/-- Every run of the reference ends with these six results and the arguments as launched. -/
theorem run (ρ : Dev nD → PrngReg) :
    θ_run defs (onTc (τ := τ) (main (F := Ideal))) ⟨m, fun _ => 0, ρ⟩ fun r => ∀ c : Dev nD,
      r.2.mem ((c.tc : Thread nD τ).loc main_v63) = slabs8 (scaled (rope8 (qa (X m c) (G m c) (W m c))))
      ∧ r.2.mem ((c.tc : Thread nD τ).loc main_v84) = slabs2 (rope2 (ka (X m c) (G m c) (W m c)))
      ∧ r.2.mem ((c.tc : Thread nD τ).loc main_v89) = slabs2 (va (X m c) (G m c) (W m c))
      ∧ r.2.mem ((c.tc : Thread nD τ).loc main_v113) = slabs8 (scaled (rope8 (qb (X m c) (G m c) (W m c))))
      ∧ r.2.mem ((c.tc : Thread nD τ).loc main_v132) = slabs8 (rope8 (kb (X m c) (G m c) (W m c)))
      ∧ r.2.mem ((c.tc : Thread nD τ).loc main_v135) = slabs8 (vb (X m c) (G m c) (W m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans (qa_eq m c), (h c).2.1.trans (ka_eq m c), (h c).2.2.1.trans rfl,
    (h c).2.2.2.1.trans (qb_eq m c), (h c).2.2.2.2.1.trans (kb_eq m c), (h c).2.2.2.2.2.1.trans rfl, (h c).2.2.2.2.2.2⟩)
    (Cert.Reference2Ideal.Value.run m ρ)

end Cert.Reference2Ideal.Projections

end
-- ==== Proof.ProjValue.lean ====
/-
  What the projections' kernel leaves, against the reference.  Over the extended reals the call's six outputs, entry by
  entry, are the reference's: the block that grid point `t` writes holds rows `1024 t` to `1024 t + 1023`, its weights are
  the ones the first point kept, and its tables' rows are the positions of those rows within their sequence.
-/
module

public import proofs.«01_k».proof.Proof.ProjBody
public import proofs.«01_k».proof.Proof.ProjTables
public import proofs.«01_k».proof.Proof.ProjReference
public import Idealize.ShloMosaic.Lib.Pointwise

@[expose] public section

noncomputable section

namespace Cert.Kernel2Ideal.Projections

open Cert.Kernel2Ideal Cert.Kernel2Ideal.Gen Cert.Projections
open Idealize.ShloMosaic Idealize.ShloMosaic.TcCoe Idealize.SL.Sem

/-! ## A slab turned by the tables is a rotated head -/

theorem turned_tables (p : ℕ → EReal) (s : Fin 4096) (base : ℕ) (l : Fin 128) :
    turned p (fun l => cosT (ix2 s l)) (fun l => sinA (ix2 s l)) (fun l => sinB (ix2 s l)) base l =
      rot p s.val (base + 64 * (l.val / 64)) (l.val % 64) := by
  unfold turned rot
  simp only [cosT_apply, sinA_apply, sinB_apply]
  have e0 : base + 64 * (l.val / 64) + l.val % 64 = base + l.val := by omega
  rw [e0]
  by_cases h8 : l.val % 64 < 8
  · have h16 : l.val % 64 < 16 := by omega
    have e1 : (l.val + 8) % 128 = l.val + 8 := by omega
    have e2 : l.val % 8 = l.val % 64 := by omega
    rw [if_pos h16, if_pos h8, if_pos h8, if_pos h8, e1, e2, mul_zero, add_zero, mul_neg, sub_eq_add_neg, ← Nat.add_assoc]
  · by_cases h16 : l.val % 64 < 16
    · have e1 : base + (l.val + 120) % 128 = base + l.val - 8 := by omega
      have e2 : l.val % 8 = l.val % 64 - 8 := by omega
      rw [if_pos h16, if_neg h8, if_neg h8, if_neg h8, if_pos h16, if_pos h16, e1, e2, mul_zero, add_zero]
    · rw [if_neg h16, if_neg h8, if_neg h8, if_neg h8, if_neg h16, if_neg h16, mul_zero, mul_zero, add_zero, add_zero, mul_one]

/-! ## The blocks -/

section Blocks

variable [Facts]
variable (m : (ℓ : Loc nD τ sig) → Buf (Elt Ideal) ℓ) (c : Dev nD) (t : Fin cfg0.N)

theorem idx : ∀ t : Fin cfg0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val % 4, 0] :=
  (by decide +kernel : ∀ t : Fin grid0.N, win0_0.index t = ![t.val, 0] ∧ win0_1.index t = ![0, 0] ∧ win0_2.index t = ![0, 0]
    ∧ win0_3.index t = ![t.val % 4, 0] ∧ win0_4.index t = ![t.val % 4, 0] ∧ win0_5.index t = ![t.val % 4, 0])

theorem idx_out : ∀ t : Fin cfg0.N, win0_6.index t = ![0, t.val, 0] ∧ win0_7.index t = ![0, t.val, 0] ∧ win0_8.index t = ![0, t.val, 0]
    ∧ win0_9.index t = ![0, t.val, 0] ∧ win0_10.index t = ![0, t.val, 0] ∧ win0_11.index t = ![0, t.val, 0] :=
  (by decide +kernel : ∀ t : Fin grid0.N, win0_6.index t = ![0, t.val, 0] ∧ win0_7.index t = ![0, t.val, 0] ∧ win0_8.index t = ![0, t.val, 0]
    ∧ win0_9.index t = ![0, t.val, 0] ∧ win0_10.index t = ![0, t.val, 0] ∧ win0_11.index t = ![0, t.val, 0])

theorem points : t.val < 16 := t.isLt

theorem iblk0 (r k : Fin 1024) : (iblk m c 0 t : FVec Ideal S1024x1024 .f32) (ix2 r k) =
    m ((c : Thread nD τ).loc main_arg0) (ix2 ⟨1024 * t.val + r.val, by have := points t; omega⟩ k) := by
  have e := idx t
  blk_ext [iblk, V_main_arg0, e.1]

theorem iblk1 (u : Fin 1) (k : Fin 1024) : (iblk m c 1 t : FVec Ideal S1x1024 .f32) (ix2 u k) = m ((c : Thread nD τ).loc main_arg1) (ix1 k) := by
  have e := idx t
  rw [← V_gain m c u k]
  blk_ext [iblk, e.2.1]

theorem iblk2 (k : Fin 1024) (n : Fin 2304) : (iblk m c 2 t : FVec Ideal S1024x2304 .f32) (ix2 k n) = m ((c : Thread nD τ).loc main_arg2) (ix2 k n) := by
  have e := idx t
  blk_ext [iblk, V_main_arg2, e.2.2.1]

theorem iblk3 (r : Fin 1024) (l : Fin 128) : (iblk m c 3 t : FVec Ideal S1024x128 .f32) (ix2 r l) =
    cosT (ix2 ⟨1024 * (t.val % 4) + r.val, by omega⟩ l) := by
  have e := idx t
  rw [← V_cos m c]
  blk_ext [iblk, e.2.2.2.1]

theorem iblk4 (r : Fin 1024) (l : Fin 128) : (iblk m c 4 t : FVec Ideal S1024x128 .f32) (ix2 r l) =
    sinA (ix2 ⟨1024 * (t.val % 4) + r.val, by omega⟩ l) := by
  have e := idx t
  rw [← V_sinA m c]
  blk_ext [iblk, e.2.2.2.2.1]

theorem iblk5 (r : Fin 1024) (l : Fin 128) : (iblk m c 5 t : FVec Ideal S1024x128 .f32) (ix2 r l) =
    sinB (ix2 ⟨1024 * (t.val % 4) + r.val, by omega⟩ l) := by
  have e := idx t
  rw [← V_sinB m c]
  blk_ext [iblk, e.2.2.2.2.2]

end Blocks

/-! ## The six outputs' blocks -/

section Points

variable [Facts]
variable (m : (ℓ : Loc nD τ sig) → Buf (Elt Ideal) ℓ) (c : Dev nD) (t : Fin cfg0.N)

theorem iblk2_eq (t' : Fin cfg0.N) : (iblk m c 2 t : FVec Ideal S1024x2304 .f32) = iblk m c 2 t' := by
  funext y
  obtain ⟨k, n, rfl⟩ : ∃ (k : Fin 1024) (n : Fin 2304), y = ix2 k n := ⟨y 0, y 1, eq_ix2 y⟩
  rw [iblk2, iblk2]

/-- The scratch holds the cast weights after every point. -/
theorem scratch (n : ℕ) (hn : n < cfg0.N) : (outsAt0 m c n hn).2.2.2.2.2.2 = k0_pay8 (iblk m c 2 ⟨n, hn⟩) := by
  induction n with
  | zero =>
    rw [outsAt0_A m c ⟨0, hn⟩ rfl]
    dsimp only
    exact scratch_A _ _ _ _ _ _ _ _ _ _ _ _ _ _ _ _ _ _ _ _ _ _ _ _ _ _ _ _ _ _ _ _ _ _ _
  | succ n ih =>
    have h16 : n + 1 < 16 := hn
    have h0 : ¬(n + 1) % 16 = 0 := by omega
    rw [outsAt0_B m c ⟨n + 1, hn⟩ h0]
    refine Eq.trans ?_ ((ih (by omega)).trans (congrArg k0_pay8 (iblk2_eq m c _ _)))
    dsimp only
    exact rfl

theorem point6 (e : Fin 4) (r : Fin 1024) (l : Fin 128) :
    (outsAt0 m c t.val t.isLt).1 (ix3 e r l) =
      turned (cols (iblk m c 0 t) (iblk m c 1 t) (k0_pay8 (iblk m c 2 t)) r) (row (iblk m c 3 t) r) (row (iblk m c 4 t) r) (row (iblk m c 5 t) r) (128 * e.val) l * scale := by
  by_cases h0 : t.val % 16 = 0
  · rw [outsAt0_A m c t h0]
    dsimp only
    exact out6_A _ _ _ _ _ _ _ _ _ _ _ _ _ _ _ _ _ _ _ _ _ _ _ _ _ _ _ _ _ _ _ _ _ _ _ e r l
  · rw [outsAt0_B m c t h0, scratch m c (t.val - 1), iblk2_eq m c ⟨t.val - 1, _⟩ t]
    dsimp only
    exact out6_B _ _ _ _ _ _ _ _ _ _ _ _ _ _ _ _ _ _ _ _ _ _ _ _ _ _ _ _ _ _ _ _ _ _ _ _ e r l

theorem point7 (e : Fin 2) (r : Fin 1024) (l : Fin 128) :
    (outsAt0 m c t.val t.isLt).2.1 (ix3 e r l) =
      turned (cols (iblk m c 0 t) (iblk m c 1 t) (k0_pay8 (iblk m c 2 t)) r) (row (iblk m c 3 t) r) (row (iblk m c 4 t) r) (row (iblk m c 5 t) r) 512 (half e l) := by
  by_cases h0 : t.val % 16 = 0
  · rw [outsAt0_A m c t h0]
    dsimp only
    exact out7_A _ _ _ _ _ _ _ _ _ _ _ _ _ _ _ _ _ _ _ _ _ _ _ _ _ _ _ _ _ _ _ _ _ _ _ e r l
  · rw [outsAt0_B m c t h0, scratch m c (t.val - 1), iblk2_eq m c ⟨t.val - 1, _⟩ t]
    dsimp only
    exact out7_B _ _ _ _ _ _ _ _ _ _ _ _ _ _ _ _ _ _ _ _ _ _ _ _ _ _ _ _ _ _ _ _ _ _ _ _ e r l

theorem point8 (e : Fin 2) (r : Fin 1024) (l : Fin 128) :
    (outsAt0 m c t.val t.isLt).2.2.1 (ix3 e r l) =
      cols (iblk m c 0 t) (iblk m c 1 t) (k0_pay8 (iblk m c 2 t)) r (512 + 128 + 64 * e.val + l.val % 64) := by
  by_cases h0 : t.val % 16 = 0
  · rw [outsAt0_A m c t h0]
    dsimp only
    exact out8_A _ _ _ _ _ _ _ _ _ _ _ _ _ _ _ _ _ _ _ _ _ _ _ _ _ _ _ _ _ _ _ _ _ _ _ e r l
  · rw [outsAt0_B m c t h0, scratch m c (t.val - 1), iblk2_eq m c ⟨t.val - 1, _⟩ t]
    dsimp only
    exact out8_B _ _ _ _ _ _ _ _ _ _ _ _ _ _ _ _ _ _ _ _ _ _ _ _ _ _ _ _ _ _ _ _ _ _ _ _ e r l

theorem point9 (e : Fin 4) (r : Fin 1024) (l : Fin 128) :
    (outsAt0 m c t.val t.isLt).2.2.2.1 (ix3 e r l) =
      turned (cols (iblk m c 0 t) (iblk m c 1 t) (k0_pay8 (iblk m c 2 t)) r) (row (iblk m c 3 t) r) (row (iblk m c 4 t) r) (row (iblk m c 5 t) r) (768 + 128 * e.val) l * scale := by
  by_cases h0 : t.val % 16 = 0
  · rw [outsAt0_A m c t h0]
    dsimp only
    exact out9_A _ _ _ _ _ _ _ _ _ _ _ _ _ _ _ _ _ _ _ _ _ _ _ _ _ _ _ _ _ _ _ _ _ _ _ e r l
  · rw [outsAt0_B m c t h0, scratch m c (t.val - 1), iblk2_eq m c ⟨t.val - 1, _⟩ t]
    dsimp only
    exact out9_B _ _ _ _ _ _ _ _ _ _ _ _ _ _ _ _ _ _ _ _ _ _ _ _ _ _ _ _ _ _ _ _ _ _ _ _ e r l

theorem point10 (e : Fin 4) (r : Fin 1024) (l : Fin 128) :
    (outsAt0 m c t.val t.isLt).2.2.2.2.1 (ix3 e r l) =
      turned (cols (iblk m c 0 t) (iblk m c 1 t) (k0_pay8 (iblk m c 2 t)) r) (row (iblk m c 3 t) r) (row (iblk m c 4 t) r) (row (iblk m c 5 t) r) (1280 + 128 * e.val) l := by
  by_cases h0 : t.val % 16 = 0
  · rw [outsAt0_A m c t h0]
    dsimp only
    exact out10_A _ _ _ _ _ _ _ _ _ _ _ _ _ _ _ _ _ _ _ _ _ _ _ _ _ _ _ _ _ _ _ _ _ _ _ e r l
  · rw [outsAt0_B m c t h0, scratch m c (t.val - 1), iblk2_eq m c ⟨t.val - 1, _⟩ t]
    dsimp only
    exact out10_B _ _ _ _ _ _ _ _ _ _ _ _ _ _ _ _ _ _ _ _ _ _ _ _ _ _ _ _ _ _ _ _ _ _ _ _ e r l

theorem point11 (e : Fin 4) (r : Fin 1024) (l : Fin 128) :
    (outsAt0 m c t.val t.isLt).2.2.2.2.2.1 (ix3 e r l) =
      cols (iblk m c 0 t) (iblk m c 1 t) (k0_pay8 (iblk m c 2 t)) r (1792 + 128 * e.val + l.val) := by
  by_cases h0 : t.val % 16 = 0
  · rw [outsAt0_A m c t h0]
    dsimp only
    exact out11_A _ _ _ _ _ _ _ _ _ _ _ _ _ _ _ _ _ _ _ _ _ _ _ _ _ _ _ _ _ _ _ _ _ _ _ e r l
  · rw [outsAt0_B m c t h0, scratch m c (t.val - 1), iblk2_eq m c ⟨t.val - 1, _⟩ t]
    dsimp only
    exact out11_B _ _ _ _ _ _ _ _ _ _ _ _ _ _ _ _ _ _ _ _ _ _ _ _ _ _ _ _ _ _ _ _ _ _ _ _ e r l

/-- A block's columns are the array's. -/
theorem cols_eq (r : Fin 1024) :
    cols (iblk m c 0 t) (iblk m c 1 t) (k0_pay8 (iblk m c 2 t)) r =
      Cert.Reference2Ideal.Projections.columns (m ((c : Thread nD τ).loc main_arg0)) (m ((c : Thread nD τ).loc main_arg1)) (m ((c : Thread nD τ).loc main_arg2))
        ⟨1024 * t.val + r.val, by have := points t; omega⟩ := by
  funext n
  unfold cols Cert.Reference2Ideal.Projections.columns col hn
  simp only [iblk0, iblk1]
  refine Finset.sum_congr rfl fun k _ => congrArg _ ?_
  refine Eq.trans ?_ (iblk2 m c t k _)
  unfold k0_pay8
  pointwise

/-- A block's tables are the positions' rows. -/
theorem tables_eq (p : ℕ → EReal) (r : Fin 1024) (base : ℕ) (l : Fin 128) :
    turned p (row (iblk m c 3 t) r) (row (iblk m c 4 t) r) (row (iblk m c 5 t) r) base l =
      rot p ((1024 * t.val + r.val) % 4096) (base + 64 * (l.val / 64)) (l.val % 64) := by
  have h3 : row (iblk m c 3 t) r = fun l => cosT (ix2 ⟨1024 * (t.val % 4) + r.val, by omega⟩ l) := funext fun l => iblk3 m c t r l
  have h4 : row (iblk m c 4 t) r = fun l => sinA (ix2 ⟨1024 * (t.val % 4) + r.val, by omega⟩ l) := funext fun l => iblk4 m c t r l
  have h5 : row (iblk m c 5 t) r = fun l => sinB (ix2 ⟨1024 * (t.val % 4) + r.val, by omega⟩ l) := funext fun l => iblk5 m c t r l
  rw [h3, h4, h5, turned_tables]
  have es : 1024 * (t.val % 4) + r.val = (1024 * t.val + r.val) % 4096 := by omega
  show rot p (1024 * (t.val % 4) + r.val) _ _ = _
  rw [es]

end Points

/-! ## The six outputs -/

section Outputs

variable [Facts]
variable (m : (ℓ : Loc nD τ sig) → Buf (Elt Ideal) ℓ) (c : Dev nD)

theorem arr6 : (dats m 0 c).arrAt 6 cfg0.N = Cert.Reference2Ideal.Projections.slabs8 (Cert.Reference2Ideal.Projections.scaled (Cert.Reference2Ideal.Projections.rope8 (Cert.Reference2Ideal.Projections.qa (m ((c : Thread nD τ).loc main_arg0)) (m ((c : Thread nD τ).loc main_arg1)) (m ((c : Thread nD τ).loc main_arg2))))) := by
  refine (dats m 0 c).arrAt_eq_of_covers 6 _ (by decide +kernel) fun t hf y => ?_
  blk_simp
  rw [after0_6]
  obtain ⟨e, r, l, rfl⟩ : ∃ (e : Fin 4) (r : Fin 1024) (l : Fin 128), y = ix3 e r l := ⟨y 0, y 1, y 2, eq_ix3 y⟩
  have ht := points t
  have hi := idx_out t
  have hy : (win0_6.blk t).view.emb (ix3 e r l) = ix3 e ⟨1024 * t.val + r.val, by omega⟩ l := by
    blk_ext [hi.1]
  rw [hy, Cert.Reference2Ideal.Projections.qa_out]
  refine (point6 m c t e r l).trans ?_
  rw [cols_eq, tables_eq]
  have hb : 128 * e.val + 64 * (l.val / 64) = 64 * (2 * e.val + l.val / 64) := by omega
  rw [hb]

theorem arr7 : (dats m 0 c).arrAt 7 cfg0.N = Cert.Reference2Ideal.Projections.slabs2 (Cert.Reference2Ideal.Projections.rope2 (Cert.Reference2Ideal.Projections.ka (m ((c : Thread nD τ).loc main_arg0)) (m ((c : Thread nD τ).loc main_arg1)) (m ((c : Thread nD τ).loc main_arg2)))) := by
  refine (dats m 0 c).arrAt_eq_of_covers 7 _ (by decide +kernel) fun t hf y => ?_
  blk_simp
  rw [after0_7]
  obtain ⟨e, r, l, rfl⟩ : ∃ (e : Fin 2) (r : Fin 1024) (l : Fin 128), y = ix3 e r l := ⟨y 0, y 1, y 2, eq_ix3 y⟩
  have ht := points t
  have hi := idx_out t
  have hy : (win0_7.blk t).view.emb (ix3 e r l) = ix3 e ⟨1024 * t.val + r.val, by omega⟩ l := by
    blk_ext [hi.2.1]
  rw [hy, Cert.Reference2Ideal.Projections.ka_out]
  refine (point7 m c t e r l).trans ?_
  rw [cols_eq, tables_eq]
  have hb : (half e l).val / 64 = e.val := by unfold half; dsimp only; omega
  have hl : (half e l).val % 64 = l.val % 64 := by unfold half; dsimp only; omega
  rw [hb, hl]

theorem arr8 : (dats m 0 c).arrAt 8 cfg0.N = Cert.Reference2Ideal.Projections.slabs2 (Cert.Reference2Ideal.Projections.va (m ((c : Thread nD τ).loc main_arg0)) (m ((c : Thread nD τ).loc main_arg1)) (m ((c : Thread nD τ).loc main_arg2))) := by
  refine (dats m 0 c).arrAt_eq_of_covers 8 _ (by decide +kernel) fun t hf y => ?_
  blk_simp
  rw [after0_8]
  obtain ⟨e, r, l, rfl⟩ : ∃ (e : Fin 2) (r : Fin 1024) (l : Fin 128), y = ix3 e r l := ⟨y 0, y 1, y 2, eq_ix3 y⟩
  have ht := points t
  have hi := idx_out t
  have hy : (win0_8.blk t).view.emb (ix3 e r l) = ix3 e ⟨1024 * t.val + r.val, by omega⟩ l := by
    blk_ext [hi.2.2.1]
  rw [hy, Cert.Reference2Ideal.Projections.va_out]
  refine (point8 m c t e r l).trans ?_
  rw [cols_eq]

theorem arr9 : (dats m 0 c).arrAt 9 cfg0.N = Cert.Reference2Ideal.Projections.slabs8 (Cert.Reference2Ideal.Projections.scaled (Cert.Reference2Ideal.Projections.rope8 (Cert.Reference2Ideal.Projections.qb (m ((c : Thread nD τ).loc main_arg0)) (m ((c : Thread nD τ).loc main_arg1)) (m ((c : Thread nD τ).loc main_arg2))))) := by
  refine (dats m 0 c).arrAt_eq_of_covers 9 _ (by decide +kernel) fun t hf y => ?_
  blk_simp
  rw [after0_9]
  obtain ⟨e, r, l, rfl⟩ : ∃ (e : Fin 4) (r : Fin 1024) (l : Fin 128), y = ix3 e r l := ⟨y 0, y 1, y 2, eq_ix3 y⟩
  have ht := points t
  have hi := idx_out t
  have hy : (win0_9.blk t).view.emb (ix3 e r l) = ix3 e ⟨1024 * t.val + r.val, by omega⟩ l := by
    blk_ext [hi.2.2.2.1]
  rw [hy, Cert.Reference2Ideal.Projections.qb_out]
  refine (point9 m c t e r l).trans ?_
  rw [cols_eq, tables_eq]
  have hb : 768 + 128 * e.val + 64 * (l.val / 64) = 768 + 64 * (2 * e.val + l.val / 64) := by omega
  rw [hb]

theorem arr10 : (dats m 0 c).arrAt 10 cfg0.N = Cert.Reference2Ideal.Projections.slabs8 (Cert.Reference2Ideal.Projections.rope8 (Cert.Reference2Ideal.Projections.kb (m ((c : Thread nD τ).loc main_arg0)) (m ((c : Thread nD τ).loc main_arg1)) (m ((c : Thread nD τ).loc main_arg2)))) := by
  refine (dats m 0 c).arrAt_eq_of_covers 10 _ (by decide +kernel) fun t hf y => ?_
  blk_simp
  rw [after0_10]
  obtain ⟨e, r, l, rfl⟩ : ∃ (e : Fin 4) (r : Fin 1024) (l : Fin 128), y = ix3 e r l := ⟨y 0, y 1, y 2, eq_ix3 y⟩
  have ht := points t
  have hi := idx_out t
  have hy : (win0_10.blk t).view.emb (ix3 e r l) = ix3 e ⟨1024 * t.val + r.val, by omega⟩ l := by
    blk_ext [hi.2.2.2.2.1]
  rw [hy, Cert.Reference2Ideal.Projections.kb_out]
  refine (point10 m c t e r l).trans ?_
  rw [cols_eq, tables_eq]
  have hb : 1280 + 128 * e.val + 64 * (l.val / 64) = 1280 + 64 * (2 * e.val + l.val / 64) := by omega
  rw [hb]

theorem arr11 : (dats m 0 c).arrAt 11 cfg0.N = Cert.Reference2Ideal.Projections.slabs8 (Cert.Reference2Ideal.Projections.vb (m ((c : Thread nD τ).loc main_arg0)) (m ((c : Thread nD τ).loc main_arg1)) (m ((c : Thread nD τ).loc main_arg2))) := by
  refine (dats m 0 c).arrAt_eq_of_covers 11 _ (by decide +kernel) fun t hf y => ?_
  blk_simp
  rw [after0_11]
  obtain ⟨e, r, l, rfl⟩ : ∃ (e : Fin 4) (r : Fin 1024) (l : Fin 128), y = ix3 e r l := ⟨y 0, y 1, y 2, eq_ix3 y⟩
  have ht := points t
  have hi := idx_out t
  have hy : (win0_11.blk t).view.emb (ix3 e r l) = ix3 e ⟨1024 * t.val + r.val, by omega⟩ l := by
    blk_ext [hi.2.2.2.2.2]
  rw [hy, Cert.Reference2Ideal.Projections.vb_out]
  refine (point11 m c t e r l).trans ?_
  rw [cols_eq]

end Outputs

/-! ## The run -/

theorem run [Facts] (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v40_0) = Cert.Reference2Ideal.Projections.slabs8 (Cert.Reference2Ideal.Projections.scaled (Cert.Reference2Ideal.Projections.rope8 (Cert.Reference2Ideal.Projections.qa (m ((c : Thread nD τ).loc main_arg0)) (m ((c : Thread nD τ).loc main_arg1)) (m ((c : Thread nD τ).loc main_arg2)))))
      ∧ r.2.mem ((c.tc : Thread nD τ).loc main_v40_1) = Cert.Reference2Ideal.Projections.slabs2 (Cert.Reference2Ideal.Projections.rope2 (Cert.Reference2Ideal.Projections.ka (m ((c : Thread nD τ).loc main_arg0)) (m ((c : Thread nD τ).loc main_arg1)) (m ((c : Thread nD τ).loc main_arg2))))
      ∧ r.2.mem ((c.tc : Thread nD τ).loc main_v40_2) = Cert.Reference2Ideal.Projections.slabs2 (Cert.Reference2Ideal.Projections.va (m ((c : Thread nD τ).loc main_arg0)) (m ((c : Thread nD τ).loc main_arg1)) (m ((c : Thread nD τ).loc main_arg2)))
      ∧ r.2.mem ((c.tc : Thread nD τ).loc main_v40_3) = Cert.Reference2Ideal.Projections.slabs8 (Cert.Reference2Ideal.Projections.scaled (Cert.Reference2Ideal.Projections.rope8 (Cert.Reference2Ideal.Projections.qb (m ((c : Thread nD τ).loc main_arg0)) (m ((c : Thread nD τ).loc main_arg1)) (m ((c : Thread nD τ).loc main_arg2)))))
      ∧ r.2.mem ((c.tc : Thread nD τ).loc main_v40_4) = Cert.Reference2Ideal.Projections.slabs8 (Cert.Reference2Ideal.Projections.rope8 (Cert.Reference2Ideal.Projections.kb (m ((c : Thread nD τ).loc main_arg0)) (m ((c : Thread nD τ).loc main_arg1)) (m ((c : Thread nD τ).loc main_arg2))))
      ∧ r.2.mem ((c.tc : Thread nD τ).loc main_v40_5) = Cert.Reference2Ideal.Projections.slabs8 (Cert.Reference2Ideal.Projections.vb (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((Value.final6 m c).symm.trans (arr6 m c)), (h c).2.1.trans ((Value.final7 m c).symm.trans (arr7 m c)),
    (h c).2.2.1.trans ((Value.final8 m c).symm.trans (arr8 m c)), (h c).2.2.2.1.trans ((Value.final9 m c).symm.trans (arr9 m c)),
    (h c).2.2.2.2.1.trans ((Value.final10 m c).symm.trans (arr10 m c)), (h c).2.2.2.2.2.1.trans ((Value.final11 m c).symm.trans (arr11 m c)), (h c).2.2.2.2.2.2⟩)
    (Value.run m ρ)

end Cert.Kernel2Ideal.Projections

end
-- ==== Proof.MixIdealRun.lean ====
/-
  The mixing call over the extended reals or any other floats: what a grid point reads, and what its body stores in each case.
-/
module

public import proofs.«01_k».proof.Proof.Gen.Kernel3Ideal.Launch
public import proofs.«01_k».proof.Proof.Gen.Kernel3Ideal.Skeleton
public import proofs.«01_k».proof.Proof.Gen.Kernel3Ideal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel3Ideal.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A buffer when the call starts: what the lines before it left there. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- The block of an input that a grid point reads. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).1 5).trans (((dats 0 c).arrAt_in 5 rfl _).trans ((hA c 5).trans (V_main_arg5 m c))),
      ((h c).2 main_arg6 (Pipeline.mem_restRefs_of main_arg6 (by decide) (by decide))).trans (V_main_arg6 m c),
      ((h c).2 main_arg7 (Pipeline.mem_restRefs_of main_arg7 (by decide) (by decide))).trans (V_main_arg7 m c)⟩) h

abbrev cond0_0 (i : grid0.Coords) : Prop := (Scalar.cmpi .ne (Scalar.extui (Scalar.cmpi .eq (BitVec.ofNat 32 (i 0).val) 0#32)) 0#32) = 1#1
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

abbrev VO0_8 : View sig .tc .vmem S1024x1024 .f32 := (Memref.whole cc0_stg8_0 : Memref sig .tc .vmem S1024x1024 .f32).view
abbrev VO0_9 : View sig .tc .vmem S8192x128 .f32 := (Memref.whole cc0_stg9_0 : Memref sig .tc .vmem S8192x128 .f32).view
abbrev VO0_10 : View sig .tc .vmem S1x16x1024 .f32 := (Memref.whole cc0_stg10_0 : Memref sig .tc .vmem S1x16x1024 .f32).view
abbrev ms0_0 (t : Fin cfg0.N) : Memref sig .tc .vmem S1024x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x1024x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x1024x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1024 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S32x1024 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x1024 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S8192x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x16x1024 .f32 := win0_10.stage (cfg0.slots t 10)
abbrev hs0_10 (t : Fin cfg0.N) : (ms0_10 t).IsWhole := hstage0_10 ((cfg0.slots t 10).cast nbuf0_10)
abbrev scM0_0 : Memref sig .tc .vmem S1024x1024 .bf16 := Memref.whole cc0_scratch0
abbrev VS0_0 : View sig .tc .vmem S1024x1024 .bf16 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

set_option maxHeartbeats 1000000 in
/-- What the body stores at the first point, output by output, with the proof that it runs so. -/
noncomputable def kernelRun0_A (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) :
    Σ' (L8 : List (View.Piece (Elt F) S1024x1024 .f32)), Σ' (L9 : List (View.Piece (Elt F) S8192x128 .f32)), Σ' (L10 : List (View.Piece (Elt F) S1x16x1024 .f32)), { LS0 : List (View.Piece (Elt F) S1024x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0)) -∗ K ⟨⟩))
          ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_mix_eq_skeleton]; unfold cc0_mix_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; iexact HS0

set_option maxHeartbeats 1000000 in
/-- What the body stores at a later point, where the scratch is read and not written, with the proof that it runs so. -/
noncomputable def kernelRun0_B (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (xs0 : Vec F S1024x1024 .bf16) :
    Σ' (L8 : List (View.Piece (Elt F) S1024x1024 .f32)), Σ' (L9 : List (View.Piece (Elt F) S8192x128 .f32)), Σ' (L10 : List (View.Piece (Elt F) S1x16x1024 .f32)), { LS0 : List (View.Piece (Elt F) S1024x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ owns (c : Thread nD τ) arg12 fullShare xs0) -∗ K ⟨⟩))
          ⊢ wp frame (wpE (defs₀ (F := F)) Variants.none c none) E (cc0_mix i arg1 harg1 arg2 harg2 arg3 harg3 arg4 harg4 arg5 harg5 arg6 harg6 arg7 harg7 arg8 harg8 arg9 harg9 arg10 harg10 arg11 harg11 arg12 harg12) K } := by
  refine ⟨?_, ?_, ?_, [], fun E K => ?run⟩
  case run =>
    simp only [cc0_mix_eq_skeleton]; unfold cc0_mix_skel
    simp only [k0_part1_eq_skeleton, k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; isplitr; · ipureintro; exact harg12.read_unread _
    iexact HS0

end Cert.Kernel3Ideal.Mix

end
-- ==== Proof.MixIdealFrame.lean ====
/-
  The mixing call over the extended reals or any other floats: the body at every grid point, and the whole program.
-/
module

public import proofs.«01_k».proof.Proof.MixIdealRun
public import Idealize.ShloMosaic.Lib.Claim

@[expose] public section

set_option maxRecDepth 16384

noncomputable section

namespace Cert.Kernel3Ideal.Mix

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The rectangle of every eighth row from row `o`. -/
def eighth (o : ℕ) (inb : ∀ a, S1024x128.size a = 0 ∨ (![o, 0] : Fin 2 → ℕ) a + (![8, 1] : Fin 2 → ℕ) a * (S1024x128.size a - 1) < S8192x128.size a) : Rect S8192x128 :=
  ⟨(⟨![o, 0], S1024x128.size, ![8, 1], inb⟩ : LoadRect S8192x128), spos_8_1⟩

theorem mem_eighth (o : ℕ) (inb : ∀ a, S1024x128.size a = 0 ∨ (![o, 0] : Fin 2 → ℕ) a + (![8, 1] : Fin 2 → ℕ) a * (S1024x128.size a - 1) < S8192x128.size a)
    (y : S8192x128.Idx) (h : (y 0).val % 8 = o) : y ∈ (eighth o inb).set := by
  have h0 : (y 0).val < 8192 := (y 0).isLt
  have h1 : (y 1).val < 128 := (y 1).isLt
  refine (LoadRect.mem_set _).mpr fun a => ?_
  fin_cases a
  · refine ⟨(y 0).val / 8, ?_, ?_⟩
    · show (y 0).val / 8 < 1024
      omega
    · show (y 0).val = o + 8 * ((y 0).val / 8)
      omega
  · refine ⟨(y 1).val, ?_, ?_⟩
    · show (y 1).val < 128
      omega
    · show (y 1).val = 0 + 1 * (y 1).val
      omega

/-- Eight stores, each of every eighth row, cover the block. -/
theorem cover_rows (L : List (View.Piece (Elt F) S8192x128 .f32)) (h : (L.map fun pc => pc.1) = [eighth 7 inb_S8192x128_S1024x128_7_0_s_8_1, eighth 6 inb_S8192x128_S1024x128_6_0_s_8_1, eighth 5 inb_S8192x128_S1024x128_5_0_s_8_1, eighth 4 inb_S8192x128_S1024x128_4_0_s_8_1, eighth 3 inb_S8192x128_S1024x128_3_0_s_8_1, eighth 2 inb_S8192x128_S1024x128_2_0_s_8_1, eighth 1 inb_S8192x128_S1024x128_1_0_s_8_1, eighth 0 inb_S8192x128_S1024x128_0_0_s_8_1])
    (y : S8192x128.Idx) : ∃ pc ∈ L, y ∈ pc.1.set := by
  have key : ∃ R ∈ L.map (fun pc => pc.1), y ∈ R.set := by
    rw [h]
    have h8 : (y 0).val % 8 < 8 := Nat.mod_lt _ (by decide)
    rcases (by omega : (y 0).val % 8 = 0 ∨ (y 0).val % 8 = 1 ∨ (y 0).val % 8 = 2 ∨ (y 0).val % 8 = 3 ∨ (y 0).val % 8 = 4 ∨ (y 0).val % 8 = 5 ∨ (y 0).val % 8 = 6 ∨ (y 0).val % 8 = 7) with ho | ho | ho | ho | ho | ho | ho | ho
    · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_eighth 0 inb_S8192x128_S1024x128_0_0_s_8_1 y ho⟩
    · exact ⟨_, List.mem_cons_of_mem _ (List.mem_cons_of_mem _ (List.mem_cons_of_mem _ (List.mem_cons_of_mem _ (List.mem_cons_of_mem _ (List.mem_cons_of_mem _ (List.mem_cons_self)))))), mem_eighth 1 inb_S8192x128_S1024x128_1_0_s_8_1 y ho⟩
    · exact ⟨_, List.mem_cons_of_mem _ (List.mem_cons_of_mem _ (List.mem_cons_of_mem _ (List.mem_cons_of_mem _ (List.mem_cons_of_mem _ (List.mem_cons_self))))), mem_eighth 2 inb_S8192x128_S1024x128_2_0_s_8_1 y ho⟩
    · exact ⟨_, List.mem_cons_of_mem _ (List.mem_cons_of_mem _ (List.mem_cons_of_mem _ (List.mem_cons_of_mem _ (List.mem_cons_self)))), mem_eighth 3 inb_S8192x128_S1024x128_3_0_s_8_1 y ho⟩
    · exact ⟨_, List.mem_cons_of_mem _ (List.mem_cons_of_mem _ (List.mem_cons_of_mem _ (List.mem_cons_self))), mem_eighth 4 inb_S8192x128_S1024x128_4_0_s_8_1 y ho⟩
    · exact ⟨_, List.mem_cons_of_mem _ (List.mem_cons_of_mem _ (List.mem_cons_self)), mem_eighth 5 inb_S8192x128_S1024x128_5_0_s_8_1 y ho⟩
    · exact ⟨_, List.mem_cons_of_mem _ (List.mem_cons_self), mem_eighth 6 inb_S8192x128_S1024x128_6_0_s_8_1 y ho⟩
    · exact ⟨_, List.mem_cons_self, mem_eighth 7 inb_S8192x128_S1024x128_7_0_s_8_1 y ho⟩
  obtain ⟨R, hR, hy⟩ := key
  obtain ⟨pc, hpc, rfl⟩ := List.mem_map.1 hR
  exact ⟨pc, hpc, hy⟩

theorem cover0_A_8 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1 S1024x256.size (by sl_kernel_rfl) y

def out0_A_8 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) : Vec F S1024x1024 .f32 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1)

theorem cover0_A_9 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (y : S8192x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1, y ∈ pc.1.set :=
  cover_rows (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1 rfl y

def out0_A_9 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) : Vec F S8192x128 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1)

theorem cover0_A_10 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (y : S1x16x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1 S1x16x1024.size (by sl_kernel_rfl) y

def out0_A_10 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) : Vec F S1x16x1024 .f32 :=
  VO0_10.read (Elt F) (VO0_10.writes (Elt F) VO0_10.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1)

theorem scover0_A_0 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (y : S1024x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1 S1024x1024.size (by sl_kernel_rfl) y

def sout0_A_0 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) : Vec F S1024x1024 .bf16 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1)

theorem cover0_B_8 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (xs0 : Vec F S1024x1024 .bf16) (y : S1024x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).1 S1024x256.size (by sl_kernel_rfl) y

def out0_B_8 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (xs0 : Vec F S1024x1024 .bf16) : Vec F S1024x1024 .f32 :=
  VO0_8.read (Elt F) (VO0_8.writes (Elt F) VO0_8.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).1)

theorem cover0_B_9 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (xs0 : Vec F S1024x1024 .bf16) (y : S8192x128.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.1, y ∈ pc.1.set :=
  cover_rows (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.1 rfl y

def out0_B_9 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (xs0 : Vec F S1024x1024 .bf16) : Vec F S8192x128 .f32 :=
  VO0_9.read (Elt F) (VO0_9.writes (Elt F) VO0_9.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.1)

theorem cover0_B_10 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (xs0 : Vec F S1024x1024 .bf16) (y : S1x16x1024.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1 S1x16x1024.size (by sl_kernel_rfl) y

def out0_B_10 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (xs0 : Vec F S1024x1024 .bf16) : Vec F S1x16x1024 .f32 :=
  VO0_10.read (Elt F) (VO0_10.writes (Elt F) VO0_10.junk (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0).2.2.1)

def sout0_B_0 (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec F S1024x1024 .f32) (x1 : Vec F S4x1024x128 .f32) (x2 : Vec F S4x1024x128 .f32) (x3 : Vec F S1x512 .f32) (x4 : Vec F S1x512 .f32) (x5 : Vec F S1024x1024 .f32) (x6 : Vec F S1x1024 .f32) (x7 : Vec F S32x1024 .bf16) (xs0 : Vec F S1024x1024 .bf16) : Vec F S1024x1024 .bf16 := xs0

/-- What each output and the scratch hold after a grid point. -/
def outsAt0 (c : Dev nD) : (n : ℕ) → n < cfg0.N → Vec F S1024x1024 .f32 × Vec F S8192x128 .f32 × Vec F S1x16x1024 .f32 × Vec F S1024x1024 .bf16
  | 0, hn => (out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) scM0_0 (Memref.isWhole_whole _) ((hcond0_0 ⟨0, hn⟩).mpr (Nat.zero_mod _)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩))
  | n + 1, hn =>
    if h0 : (n + 1) % 16 = 0 then
      (out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) ((hcond0_0 ⟨n + 1, hn⟩).mpr h0) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩))
    else
      (out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) scM0_0 (Memref.isWhole_whole _) (fun h => h0 ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (outsAt0 c n (Nat.lt_of_succ_lt hn)).2.2.2)

theorem outsAt0_A (c : Dev nD) (t : Fin cfg0.N) (h0 : t.val % 16 = 0) :
    outsAt0 m c t.val t.isLt = (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t), sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t)) := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = (out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2, sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- Between points the scratch holds what the point before left in it. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2)) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt0 m c t.val t.isLt).1
    | ⟨9, _⟩ => (outsAt0 m c t.val t.isLt).2.1
    | ⟨10, _⟩ => (outsAt0 m c t.val t.isLt).2.2.1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = (outsAt0 m c t.val t.isLt).1 := by dsimp only [dats]
theorem after0_9 (c : Dev nD) (t : Fin cfg0.N) : (dats m 0 c).after 9 t = (outsAt0 m c t.val t.isLt).2.1 := by dsimp only [dats]
theorem after0_10 (c : Dev nD) (t : Fin cfg0.N) : (dats m 0 c).after 10 t = (outsAt0 m c t.val t.isLt).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t))

set_option maxHeartbeats 9600000 in
/-- The body at a grid point, from what the pipeline hands it to what it owes. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7]
  rw [show (dats m 0 c).owesAt () t.succ = (dats m 0 c).owesAt () t.castSucc from rfl,
    after0_0, after0_1, after0_2, after0_3, after0_4, after0_5, after0_6, after0_7, after0_8, after0_9, after0_10]
  rw [show (dats m 0 c).Φ t.succ = PhiS m c (t.val + 1) t.isLt from rfl, PhiS_succ]
  have hN : t.val < 16 := lt_of_lt_of_eq t.isLt (show cfg0.N = 16 from N_0)
  by_cases h0 : t.val % 16 = 0
  · by_cases hz : t.val = 0
    · rw [PhiS_castSucc m c t, PhiS_zero m c _ _ hz, PhiA0_eq]
      rw [outsAt0_A m c t h0]
      unfold out0_A_8 out0_A_9 out0_A_10 sout0_A_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_A c (grid0.coords t) _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t) (iblk m c 7 t)).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iintro ⟨H0, H1, H2, H3, H4, H5, H6, H7, ⟨%e8, H8⟩, ⟨%e9, H9⟩, ⟨%e10, H10⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_A_8 c _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_A_9 c _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ _)
    · exfalso; have hN : t.val < 16 := lt_of_lt_of_eq t.isLt (show cfg0.N = 16 from N_0); omega
  · by_cases hz : t.val = 0
    · exfalso; have hN : t.val < 16 := lt_of_lt_of_eq t.isLt (show cfg0.N = 16 from N_0); omega
    · rw [PhiS_castSucc m c t, PhiS_pos m c _ _ hz]
      rw [outsAt0_B m c t h0]
      unfold out0_B_8 out0_B_9 out0_B_10 sout0_B_0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply ((kernelRun0_B c (grid0.coords t) _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t) (iblk m c 7 t) _).2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [H9]; · iexists _; iexact H9
      isplitl [H10]; · iexists _; iexact H10
      isplitl [HS0]; · iexact HS0
      iintro ⟨H0, H1, H2, H3, H4, H5, H6, H7, ⟨%e8, H8⟩, ⟨%e9, H9⟩, ⟨%e10, H10⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]
      · unfold owns; iexists _; isplitr
        swap; · iexact H8
        ipureintro; exact View.read_writes_of_cover _ _ _ _ _ (cover0_B_8 c _ _ _ _ _ _ _ _ _ _ _ _ _ _ _ _ _ _ _ _ _ _ _ _ _ _ _ _ _ _ _ _ _ _ _)
      isplitl [H9]
      · unfold owns; iexists _; isplitr
        swap; · iexact H9
        ipureintro; exact View.read_writes_of_cover _ _ _ _ _ (cover0_B_9 c _ _ _ _ _ _ _ _ _ _ _ _ _ _ _ _ _ _ _ _ _ _ _ _ _ _ _ _ _ _ _ _ _ _ _)
      unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 16 := N_0; omega)

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs, and each array ends as the proof data say. -/
theorem run_main : θ_run defs (onTc (τ := τ) (main (F := F))) (s₀ m ρ) (Pipeline.FramePost cfgs (dats m) 0 (V m)) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The program runs without fault and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.Kernel3Ideal.Mix

end
-- ==== Proof.MixMath.lean ====
/-
  The mixing lines in plain arithmetic over the extended reals: the root mean square norms of the two groups of heads,
  the output projection added to the token, and the norm of the sum.
-/
module

public import Idealize.ShloMosaic.PureOps.Ideal

@[expose] public section

noncomputable section

namespace Cert.Mixing

open Idealize.ShloMosaic

/-- Entry `k` of `v` normalized by its root mean square and scaled by the gain, where `N` is the count of its entries. -/
def normed {n : ℕ} (N : EReal) (v g : Fin n → EReal) (k : Fin n) : EReal :=
  v k * Ideal.rsqrt (Ideal.div (∑ q, v q * v q) N + Ideal.ofBits FTy.f32 897988541#32) * g k

/-- The two groups of heads of one token, each normalized, one after the other. -/
def mixed (a b ga gb : Fin 512 → EReal) (k : Fin 1024) : EReal :=
  if h : k.val < 512 then normed (Ideal.ofBits FTy.f32 1140850688#32) a ga ⟨k.val, h⟩
  else normed (Ideal.ofBits FTy.f32 1140850688#32) b gb ⟨k.val - 512, by omega⟩

/-- One token with the output projection of its mixed heads added, at column `n`. -/
def summed (x : Fin 1024 → EReal) (a b ga gb : Fin 512 → EReal) (w : Fin 1024 → Fin 1024 → EReal) (n : Fin 1024) : EReal :=
  x n + ∑ k, mixed a b ga gb k * w k n

/-- That token normalized again. -/
def renormed (x : Fin 1024 → EReal) (a b ga gb : Fin 512 → EReal) (w : Fin 1024 → Fin 1024 → EReal) (g : Fin 1024 → EReal) (n : Fin 1024) : EReal :=
  normed (Ideal.ofBits FTy.f32 1149239296#32) (summed x a b ga gb w) g n

/-- A token's 512 entries of a group kept as four slabs of 128 lanes. -/
def lanes {N : ℕ} (v : Fin 4 → Fin N → Fin 128 → EReal) (t : Fin N) (q : Fin 512) : EReal :=
  v ⟨q.val / 128, by omega⟩ t ⟨q.val % 128, by omega⟩

end Cert.Mixing

end
-- ==== Proof.MixBody.lean ====
/-
  What one grid point of the mixing kernel writes, entry by entry over the extended reals.
-/
module

public import proofs.«01_k».proof.Proof.MixIdealFrame
public import proofs.«01_k».proof.Proof.MixMath
public import Idealize.ShloMosaic.Lib.Pointwise
public import Idealize.ShloMosaic.Lib.Pipeline.ValueKit.Point

@[expose] public section

noncomputable section

namespace Cert.Kernel3Ideal.Mix

open Cert.Kernel3Ideal Cert.Kernel3Ideal.Gen Cert.Mixing
open Idealize.ShloMosaic Idealize.ShloMosaic.TcCoe Idealize.SL.Sem

/-- The heads of row `r` of a block of four slabs. -/
def slabs (x : FVec Ideal S4x1024x128 .f32) (r : Fin 1024) : Fin 512 → EReal := lanes (fun c t l => x (ix3 c t l)) r

/-- Row `r` of a block with its mixed heads' projection added, the weights being `xs`. -/
def token (x0 : FVec Ideal S1024x1024 .f32) (x1 x2 : FVec Ideal S4x1024x128 .f32) (x3 x4 : FVec Ideal S1x512 .f32) (xs : FVec Ideal S1024x1024 .bf16)
    (r : Fin 1024) : Fin 1024 → EReal :=
  summed (fun n => x0 (ix2 r n)) (slabs x1 r) (slabs x2 r) (fun k => x3 (ix2 0 k)) (fun k => x4 (ix2 0 k)) (fun k n => xs (ix2 k n))

/-- Slab `a` of a block. -/
abbrev slab (x : FVec Ideal S4x1024x128 .f32) (a : ℕ) (inb : ∀ d, (![a, 0, 0] : Fin 3 → ℕ) d + S1x1024x128.size d ≤ S4x1024x128.size d) : FVec Ideal S1x1024x128 .f32 :=
  View.ld (Val := Elt Ideal) (e' := .f32) x (Rect.unit (s := S4x1024x128) ![a, 0, 0] S1x1024x128.size inb)

theorem slab_apply (x : FVec Ideal S4x1024x128 .f32) (a : ℕ) (inb : ∀ d, (![a, 0, 0] : Fin 3 → ℕ) d + S1x1024x128.size d ≤ S4x1024x128.size d) (ha : a < 4)
    (u : Fin 1) (r : Fin 1024) (l : Fin 128) : slab x a inb (ix3 u r l) = x (ix3 ⟨a, ha⟩ r l) := by
  refine congrArg x (funext fun d => Fin.ext ?_)
  fin_cases d
  · show a + 1 * u.val = a
    omega
  · show 0 + 1 * r.val = r.val
    omega
  · show 0 + 1 * l.val = l.val
    omega

/-- The four slabs side by side. -/
theorem pay3_apply (x : FVec Ideal S4x1024x128 .f32) (r : Fin 1024) (q : Fin 512) :
    k0_pay3 (F := Ideal) (slab x 0 inb_S4x1024x128_S1x1024x128_0_0_0) (slab x 1 inb_S4x1024x128_S1x1024x128_1_0_0) (slab x 2 inb_S4x1024x128_S1x1024x128_2_0_0)
      (slab x 3 inb_S4x1024x128_S1x1024x128_3_0_0) (ix2 r q) = slabs x r q := by
  unfold k0_pay3 slabs lanes
  pointwise
  have hq := q.isLt
  have e (a : ℕ) (inb : ∀ d, (![a, 0, 0] : Fin 3 → ℕ) d + S1x1024x128.size d ≤ S4x1024x128.size d) (ha : a < 4) (l : Fin 128) (h1 : q.val / 128 = a) (h2 : l.val = q.val % 128) :
      slab x a inb (ix3 0 r l) = x (ix3 (⟨q.val / 128, by omega⟩ : Fin 4) r (⟨q.val % 128, by omega⟩ : Fin 128)) := by
    rw [slab_apply x a inb ha]
    subst h1
    exact congrArg (fun l => x (ix3 _ r l)) (Fin.ext h2)
  by_cases h0 : q.val < 128
  · rw [dif_pos h0]
    exact e 0 _ (by decide) _ (by omega) (by dsimp only; omega)
  · rw [dif_neg h0]
    by_cases h1 : q.val - 128 < 128
    · rw [dif_pos h1]
      exact e 1 _ (by decide) _ (by omega) (by dsimp only; omega)
    · rw [dif_neg h1]
      by_cases h2 : q.val - 128 - 128 < 128
      · rw [dif_pos h2]
        exact e 2 _ (by decide) _ (by omega) (by dsimp only; omega)
      · rw [dif_neg h2]
        exact e 3 _ (by decide) _ (by omega) (by dsimp only; omega)

theorem pay6_apply (v3 v5 v7 v9 : FVec Ideal S1x1024x128 .f32) (r : Fin 1024) :
    k0_pay6 (F := Ideal) v3 v5 v7 v9 (ix2 r 0) = Ideal.div (∑ q : Fin 512, (k0_pay3 (F := Ideal) v3 v5 v7 v9 (ix2 r q) : EReal) * k0_pay3 (F := Ideal) v3 v5 v7 v9 (ix2 r q)) (Ideal.ofBits FTy.f32 1140850688#32) := by
  unfold k0_pay6
  pointwise

theorem pay7_apply (A B : FVec Ideal S1024x512 .f32) (g h : FVec Ideal S1x512 .f32) (M : FVec Ideal S1024x1 .f32)
    (hM : ∀ r : Fin 1024, M (ix2 r 0) = Ideal.div (∑ q : Fin 512, (A (ix2 r q) : EReal) * A (ix2 r q)) (Ideal.ofBits FTy.f32 1140850688#32)) (r k : Fin 1024) :
    k0_pay7 (F := Ideal) A B (k0_pay5 g) M h (ix2 r k) =
      mixed (fun q => A (ix2 r q)) (fun q => B (ix2 r q)) (fun q => g (ix2 0 q)) (fun q => h (ix2 0 q)) k := by
  unfold k0_pay7 k0_pay5 mixed normed
  rw [← hM]
  pointwise

theorem pay10_apply (h : FVec Ideal S1024x1024 .bf16) (x : FVec Ideal S1024x256 .f32) (w : FVec Ideal S1024x256 .bf16) (r : Fin 1024) (n : Fin 256) :
    k0_pay10 (F := Ideal) h x w (ix2 r n) = x (ix2 r n) + ∑ k : Fin 1024, (h (ix2 r k) : EReal) * w (ix2 k n) := by
  unfold k0_pay10
  pointwise

theorem pay12_apply (Y : FVec Ideal S1024x1024 .f32) (g : FVec Ideal S1x1024 .f32) (r k : Fin 1024) :
    k0_pay12 (F := Ideal) Y g (ix2 r k) = normed (Ideal.ofBits FTy.f32 1149239296#32) (fun n => Y (ix2 r n)) (fun n => g (ix2 0 n)) k := by
  unfold k0_pay12
  pointwise
  rfl

/-- The mixed heads of a block, as the kernel holds them. -/
abbrev heads (x1 x2 : FVec Ideal S4x1024x128 .f32) (x3 x4 : FVec Ideal S1x512 .f32) : FVec Ideal S1024x1024 .bf16 :=
  k0_pay7 (k0_pay3 (slab x1 0 inb_S4x1024x128_S1x1024x128_0_0_0) (slab x1 1 inb_S4x1024x128_S1x1024x128_1_0_0) (slab x1 2 inb_S4x1024x128_S1x1024x128_2_0_0) (slab x1 3 inb_S4x1024x128_S1x1024x128_3_0_0))
    (k0_pay4 (slab x2 0 inb_S4x1024x128_S1x1024x128_0_0_0) (slab x2 1 inb_S4x1024x128_S1x1024x128_1_0_0) (slab x2 2 inb_S4x1024x128_S1x1024x128_2_0_0) (slab x2 3 inb_S4x1024x128_S1x1024x128_3_0_0))
    (k0_pay5 x3)
    (k0_pay6 (slab x1 0 inb_S4x1024x128_S1x1024x128_0_0_0) (slab x1 1 inb_S4x1024x128_S1x1024x128_1_0_0) (slab x1 2 inb_S4x1024x128_S1x1024x128_2_0_0) (slab x1 3 inb_S4x1024x128_S1x1024x128_3_0_0))
    x4

theorem heads_apply (x1 x2 : FVec Ideal S4x1024x128 .f32) (x3 x4 : FVec Ideal S1x512 .f32) (r k : Fin 1024) :
    heads x1 x2 x3 x4 (ix2 r k) = mixed (slabs x1 r) (slabs x2 r) (fun k => x3 (ix2 0 k)) (fun k => x4 (ix2 0 k)) k := by
  refine (pay7_apply _ _ x3 x4 _ (fun r => pay6_apply _ _ _ _ r) r k).trans ?_
  have ea : (fun q => k0_pay3 (F := Ideal) (slab x1 0 inb_S4x1024x128_S1x1024x128_0_0_0) (slab x1 1 inb_S4x1024x128_S1x1024x128_1_0_0) (slab x1 2 inb_S4x1024x128_S1x1024x128_2_0_0)
      (slab x1 3 inb_S4x1024x128_S1x1024x128_3_0_0) (ix2 r q)) = slabs x1 r := funext fun q => pay3_apply x1 r q
  have eb : (fun q => k0_pay4 (F := Ideal) (slab x2 0 inb_S4x1024x128_S1x1024x128_0_0_0) (slab x2 1 inb_S4x1024x128_S1x1024x128_1_0_0) (slab x2 2 inb_S4x1024x128_S1x1024x128_2_0_0)
      (slab x2 3 inb_S4x1024x128_S1x1024x128_3_0_0) (ix2 r q)) = slabs x2 r := funext fun q => pay3_apply x2 r q
  rw [ea, eb]

/-- Columns `o` to `o + 256` of a square array. -/
theorem columns_apply {e : EltTy} (x : Vec Ideal S1024x1024 e) (o : ℕ) (inb : ∀ a, (![0, o] : Fin 2 → ℕ) a + S1024x256.size a ≤ S1024x1024.size a) (r : Fin 1024) (n : Fin 256)
    (ho : o + n.val < 1024) :
    View.ld (Val := Elt Ideal) (e' := e) x (Rect.unit (s := S1024x1024) ![0, o] S1024x256.size inb) (ix2 r n) = x (ix2 r ⟨o + n.val, ho⟩) := by
  refine congrArg x (funext fun d => Fin.ext ?_)
  fin_cases d
  · show 0 + 1 * r.val = r.val
    omega
  · show o + 1 * n.val = o + n.val
    omega

/-- What is stored at columns `o` to `o + 256` is those columns of the tokens. -/
theorem store_apply (x0 : FVec Ideal S1024x1024 .f32) (x1 x2 : FVec Ideal S4x1024x128 .f32) (x3 x4 : FVec Ideal S1x512 .f32) (xs : FVec Ideal S1024x1024 .bf16)
    (o : ℕ) (inb : ∀ a, (![0, o] : Fin 2 → ℕ) a + S1024x256.size a ≤ S1024x1024.size a) (r : Fin 1024) (n : Fin 256) (ho : o + n.val < 1024) :
    k0_pay10 (F := Ideal) (heads x1 x2 x3 x4) (View.ld (Val := Elt Ideal) (e' := .f32) x0 (Rect.unit (s := S1024x1024) ![0, o] S1024x256.size inb))
      (View.ld (Val := Elt Ideal) (e' := .bf16) xs (Rect.unit (s := S1024x1024) ![0, o] S1024x256.size inb)) (ix2 r n) = token x0 x1 x2 x3 x4 xs r ⟨o + n.val, ho⟩ := by
  refine (pay10_apply _ _ _ r n).trans ?_
  unfold token summed
  refine congrArg₂ (fun a b : EReal => a + b) (columns_apply (e := .f32) x0 o inb r n ho) (Finset.sum_congr rfl fun k _ => ?_)
  exact congrArg₂ (fun a b : EReal => a * b) (heads_apply x1 x2 x3 x4 r k) (columns_apply (e := .bf16) xs o inb k n ho)

theorem piece_eq (o : ℕ) (inb : ∀ a, (![0, o] : Fin 2 → ℕ) a + S1024x256.size a ≤ S1024x1024.size a) (ho : o + 256 ≤ 1024)
    (G : Fin 1024 → Fin 1024 → EReal) (v : S1024x256.Idx → EReal) (hv : ∀ (r : Fin 1024) (n : Fin 256), v (ix2 r n) = G r ⟨o + n.val, by omega⟩) (x : S1024x256.Idx) :
    v x = (fun y : S1024x1024.Idx => G (y 0) (y 1)) ((Rect.unit (s := S1024x1024) ![0, o] S1024x256.size inb).emb x) := by
  obtain ⟨r, n, rfl⟩ : ∃ (r : Fin 1024) (n : Fin 256), x = ix2 r n := ⟨x 0, x 1, eq_ix2 x⟩
  have e0 : (Rect.unit (s := S1024x1024) ![0, o] S1024x256.size inb).emb (ix2 r n) 0 = r := Fin.ext (by
    show 0 + 1 * r.val = r.val
    omega)
  have e1 : (Rect.unit (s := S1024x1024) ![0, o] S1024x256.size inb).emb (ix2 r n) 1 = (⟨o + n.val, by omega⟩ : Fin 1024) := Fin.ext (by
    show o + 1 * n.val = o + n.val
    omega)
  exact (hv r n).trans (congrArg₂ G e0.symm e1.symm)

/-- Row `8 r + o` of the rows is lanes `128 o` on of token `r`. -/
theorem row_eq (o : ℕ) (inb : ∀ a, S1024x128.size a = 0 ∨ (![o, 0] : Fin 2 → ℕ) a + (![8, 1] : Fin 2 → ℕ) a * (S1024x128.size a - 1) < S8192x128.size a) (ho : o < 8)
    (G : Fin 1024 → Fin 1024 → EReal) (v : S1024x128.Idx → EReal) (hv : ∀ (r : Fin 1024) (l : Fin 128), v (ix2 r l) = G r ⟨128 * o + l.val, by omega⟩) (x : S1024x128.Idx) :
    v x = (fun y : S8192x128.Idx => G ⟨(y 0).val / 8, Nat.div_lt_of_lt_mul (y 0).isLt⟩ ⟨128 * ((y 0).val % 8) + (y 1).val, by
      have : (y 1).val < 128 := (y 1).isLt
      omega⟩) ((eighth o inb).emb x) := by
  obtain ⟨r, l, rfl⟩ : ∃ (r : Fin 1024) (l : Fin 128), x = ix2 r l := ⟨x 0, x 1, eq_ix2 x⟩
  have e0 : ((eighth o inb).emb (ix2 r l) 0).val = 8 * r.val + o := by
    show o + 8 * r.val = 8 * r.val + o
    omega
  have e1 : ((eighth o inb).emb (ix2 r l) 1).val = l.val := by
    show 0 + 1 * l.val = l.val
    omega
  refine (hv r l).trans (congrArg₂ G (Fin.ext ?_) (Fin.ext ?_))
  · show r.val = ((eighth o inb).emb (ix2 r l) 0).val / 8
    omega
  · show 128 * o + l.val = 128 * (((eighth o inb).emb (ix2 r l) 0).val % 8) + ((eighth o inb).emb (ix2 r l) 1).val
    omega

theorem ld_whole {n0 n1 : ℕ} {e : EltTy} (X : Vec Ideal ⟨2, ![n0, n1]⟩ e) (inb : ∀ d, (![0, 0] : Fin 2 → ℕ) d + (![n0, n1] : Fin 2 → ℕ) d ≤ (⟨2, ![n0, n1]⟩ : Shape).size d) :
    View.ld (Val := Elt Ideal) (e' := e) X (Rect.unit (s := ⟨2, ![n0, n1]⟩) ![0, 0] ![n0, n1] inb) = X := by
  funext y
  refine congrArg X (funext fun d => Fin.ext ?_)
  fin_cases d
  · show 0 + 1 * (y 0).val = (y 0).val
    omega
  · show 0 + 1 * (y 1).val = (y 1).val
    omega

theorem ld_gain (X : Vec Ideal S1x512 .f32) : View.ld (Val := Elt Ideal) (e' := .f32) X (Rect.unit (s := S1x512) ![0, 0] ![1, 512] inb_S1x512_S1x512_0_0) = X :=
  ld_whole X _

theorem ld_gains (X : Vec Ideal S1x1024 .f32) : View.ld (Val := Elt Ideal) (e' := .f32) X (Rect.unit (s := S1x1024) ![0, 0] ![1, 1024] inb_S1x1024_S1x1024_0_0) = X :=
  ld_whole X _

theorem ld_square (X : Vec Ideal S1024x1024 .f32) : View.ld (Val := Elt Ideal) (e' := .f32) X (Rect.unit (s := S1024x1024) ![0, 0] ![1024, 1024] inb_S1024x1024_S1024x1024_0_0) = X :=
  ld_whole X _

/-- A load of what one store of the whole wrote. -/
theorem load_stored {κ : Kind} {sp : Space} (v : View sig κ sp S1024x1024 .bf16) (w : Vec Ideal S1024x1024 .bf16) (B : Rect S1024x1024) :
    v.readCov (Val := Elt Ideal) [⟨Rect.unit (s := S1024x1024) ![0, 0] ![1024, 1024] inb_S1024x1024_S1024x1024_0_0, w⟩] B.toLoadRect = View.ld w B := by
  have hz : (![0, 0] : Fin 2 → ℕ) = fun _ => 0 := by
    funext d
    fin_cases d <;> rfl
  have e := View.canon_unit_zero (Val := Elt Ideal) (S := S1024x1024) (e := .bf16) hz inb_S1024x1024_S1024x1024_0_0 w
  refine (View.readCov_eq_canon' v _ _).trans (funext fun j => ?_)
  exact congrFun e _

theorem load_stored_all {κ : Kind} {sp : Space} (v : View sig κ sp S1024x1024 .bf16) (w : Vec Ideal S1024x1024 .bf16) :
    v.read (Elt Ideal) (v.writes (Elt Ideal) v.junk [⟨Rect.unit (s := S1024x1024) ![0, 0] ![1024, 1024] inb_S1024x1024_S1024x1024_0_0, w⟩]) = w := by
  have hz : (![0, 0] : Fin 2 → ℕ) = fun _ => 0 := by
    funext d
    fin_cases d <;> rfl
  have e := View.canon_unit_zero (Val := Elt Ideal) (S := S1024x1024) (e := .bf16) hz inb_S1024x1024_S1024x1024_0_0 w
  refine funext fun y => ?_
  refine (View.read_writes_junk_apply_eq_canon v y _).trans ?_
  exact congrFun e _

/-- The four slabs of the first group side by side, and of the second. -/
abbrev joined (x : FVec Ideal S4x1024x128 .f32) : FVec Ideal S1024x512 .f32 :=
  k0_pay3 (slab x 0 inb_S4x1024x128_S1x1024x128_0_0_0) (slab x 1 inb_S4x1024x128_S1x1024x128_1_0_0) (slab x 2 inb_S4x1024x128_S1x1024x128_2_0_0) (slab x 3 inb_S4x1024x128_S1x1024x128_3_0_0)

abbrev joined' (x : FVec Ideal S4x1024x128 .f32) : FVec Ideal S1024x512 .f32 :=
  k0_pay4 (slab x 0 inb_S4x1024x128_S1x1024x128_0_0_0) (slab x 1 inb_S4x1024x128_S1x1024x128_1_0_0) (slab x 2 inb_S4x1024x128_S1x1024x128_2_0_0) (slab x 3 inb_S4x1024x128_S1x1024x128_3_0_0)

/-- The mean square of each row of the first group. -/
abbrev meanSq (x : FVec Ideal S4x1024x128 .f32) : FVec Ideal S1024x1 .f32 :=
  k0_pay6 (slab x 0 inb_S4x1024x128_S1x1024x128_0_0_0) (slab x 1 inb_S4x1024x128_S1x1024x128_1_0_0) (slab x 2 inb_S4x1024x128_S1x1024x128_2_0_0) (slab x 3 inb_S4x1024x128_S1x1024x128_3_0_0)

/-- Columns `o` to `o + 256`, as a load reads them. -/
abbrev part {e : EltTy} (x : Vec Ideal S1024x1024 e) (o : ℕ) (inb : ∀ a, (![0, o] : Fin 2 → ℕ) a + S1024x256.size a ≤ S1024x1024.size a) : Vec Ideal S1024x256 e :=
  View.ld (Val := Elt Ideal) (e' := e) x (Rect.unit (s := S1024x1024) ![0, o] S1024x256.size inb)

/-- The four stores of the tokens, the last first. -/
def stored (x0 : FVec Ideal S1024x1024 .f32) (x1 x2 : FVec Ideal S4x1024x128 .f32) (x3 x4 : FVec Ideal S1x512 .f32) (xs : FVec Ideal S1024x1024 .bf16) :
    List (View.Piece (Elt Ideal) S1024x1024 .f32) :=
  [⟨Rect.unit (s := S1024x1024) ![0, 768] S1024x256.size inb_S1024x1024_S1024x256_0_768, k0_pay11 (heads x1 x2 x3 x4) (part (e := .f32) x0 768 inb_S1024x1024_S1024x256_0_768) (part (e := .bf16) xs 768 inb_S1024x1024_S1024x256_0_768)⟩,
    ⟨Rect.unit (s := S1024x1024) ![0, 512] S1024x256.size inb_S1024x1024_S1024x256_0_512, k0_pay10 (heads x1 x2 x3 x4) (part (e := .f32) x0 512 inb_S1024x1024_S1024x256_0_512) (part (e := .bf16) xs 512 inb_S1024x1024_S1024x256_0_512)⟩,
    ⟨Rect.unit (s := S1024x1024) ![0, 256] S1024x256.size inb_S1024x1024_S1024x256_0_256, k0_pay9 (joined x1) (joined' x2) (k0_pay5 x3) (meanSq x1) x4 (part (e := .f32) x0 256 inb_S1024x1024_S1024x256_0_256) (part (e := .bf16) xs 256 inb_S1024x1024_S1024x256_0_256)⟩,
    ⟨Rect.unit (s := S1024x1024) ![0, 0] S1024x256.size inb_S1024x1024_S1024x256_0_0, k0_pay8 (joined x1) (joined' x2) (k0_pay5 x3) (meanSq x1) x4 (part (e := .f32) x0 0 inb_S1024x1024_S1024x256_0_0) (part (e := .bf16) xs 0 inb_S1024x1024_S1024x256_0_0)⟩]

section Stored

variable (x0 : FVec Ideal S1024x1024 .f32) (x1 x2 : FVec Ideal S4x1024x128 .f32) (x3 x4 : FVec Ideal S1x512 .f32) (xs : FVec Ideal S1024x1024 .bf16)

theorem stored_eq : ∀ p ∈ stored x0 x1 x2 x3 x4 xs, ∀ x : p.1.shape.Idx, p.2 x = (fun y : S1024x1024.Idx => token x0 x1 x2 x3 x4 xs (y 0) (y 1)) (p.1.emb x) :=
  List.forall_mem_cons.2 ⟨fun x => piece_eq 768 inb_S1024x1024_S1024x256_0_768 (by decide) (token x0 x1 x2 x3 x4 xs) _ (fun r n => store_apply x0 x1 x2 x3 x4 xs 768 inb_S1024x1024_S1024x256_0_768 r n (by omega)) x,
    List.forall_mem_cons.2 ⟨fun x => piece_eq 512 inb_S1024x1024_S1024x256_0_512 (by decide) (token x0 x1 x2 x3 x4 xs) _ (fun r n => store_apply x0 x1 x2 x3 x4 xs 512 inb_S1024x1024_S1024x256_0_512 r n (by omega)) x,
    List.forall_mem_cons.2 ⟨fun x => piece_eq 256 inb_S1024x1024_S1024x256_0_256 (by decide) (token x0 x1 x2 x3 x4 xs) _ (fun r n => store_apply x0 x1 x2 x3 x4 xs 256 inb_S1024x1024_S1024x256_0_256 r n (by omega)) x,
    List.forall_mem_cons.2 ⟨fun x => piece_eq 0 inb_S1024x1024_S1024x256_0_0 (by decide) (token x0 x1 x2 x3 x4 xs) _ (fun r n => store_apply x0 x1 x2 x3 x4 xs 0 inb_S1024x1024_S1024x256_0_0 r n (by omega)) x,
    fun _ hx => absurd hx List.not_mem_nil⟩⟩⟩⟩

theorem stored_cover (y : S1024x1024.Idx) : ∃ pc ∈ stored x0 x1 x2 x3 x4 xs, y ∈ pc.1.set :=
  View.cover_of_tiledL (stored x0 x1 x2 x3 x4 xs) S1024x256.size (by sl_kernel_rfl) y

/-- A load of the whole after the four stores is the tokens. -/
theorem load_tokens {κ : Kind} {sp : Space} (v : View sig κ sp S1024x1024 .f32) (r n : Fin 1024) :
    (v.readCov (Val := Elt Ideal) (stored x0 x1 x2 x3 x4 xs) (Rect.unit (s := S1024x1024) ![0, 0] ![1024, 1024] inb_S1024x1024_S1024x1024_0_0).toLoadRect : FVec Ideal S1024x1024 .f32) (ix2 r n) =
      token x0 x1 x2 x3 x4 xs r n := by
  have e := congrFun (View.readCov_eq_canon' (Val := Elt Ideal) v (stored x0 x1 x2 x3 x4 xs) (Rect.unit (s := S1024x1024) ![0, 0] ![1024, 1024] inb_S1024x1024_S1024x1024_0_0).toLoadRect) (ix2 r n)
  refine e.trans ((View.canon_apply_of_pieces (fun y : S1024x1024.Idx => token x0 x1 x2 x3 x4 xs (y 0) (y 1)) (stored x0 x1 x2 x3 x4 xs) (stored_eq x0 x1 x2 x3 x4 xs) _ (stored_cover x0 x1 x2 x3 x4 xs _)).trans ?_)
  refine congrArg₂ (token x0 x1 x2 x3 x4 xs) (Fin.ext ?_) (Fin.ext ?_)
  · show 0 + 1 * r.val = r.val
    omega
  · show 0 + 1 * n.val = n.val
    omega

/-- Row `r`'s token normalized. -/
def renorm (x6 : FVec Ideal S1x1024 .f32) (r : Fin 1024) : Fin 1024 → EReal :=
  normed (Ideal.ofBits FTy.f32 1149239296#32) (token x0 x1 x2 x3 x4 xs r) (fun n => x6 (ix2 0 n))

/-- The kernel's norm of the tokens it reads back. -/
abbrev reread {κ : Kind} {sp : Space} (v : View sig κ sp S1024x1024 .f32) (x6 : FVec Ideal S1x1024 .f32) : FVec Ideal S1024x1024 .f32 :=
  k0_pay12 (v.readCov (Val := Elt Ideal) (stored x0 x1 x2 x3 x4 xs) (Rect.unit (s := S1024x1024) ![0, 0] ![1024, 1024] inb_S1024x1024_S1024x1024_0_0).toLoadRect) x6

theorem reread_apply {κ : Kind} {sp : Space} (v : View sig κ sp S1024x1024 .f32) (x6 : FVec Ideal S1x1024 .f32) (r k : Fin 1024) :
    reread x0 x1 x2 x3 x4 xs v x6 (ix2 r k) = renorm x0 x1 x2 x3 x4 xs x6 r k := by
  refine (pay12_apply _ x6 r k).trans ?_
  unfold renorm
  rw [funext fun n => load_tokens x0 x1 x2 x3 x4 xs v r n]

theorem slice_apply (Y : FVec Ideal S1024x1024 .f32) (o : ℕ) (h : S1024x1024.Slices ![0, o] S1024x128) (r : Fin 1024) (l : Fin 128) (ho : o + l.val < 1024) :
    extractStridedSlice S1024x128 ![0, o] Y h (ix2 r l) = Y (ix2 r ⟨o + l.val, ho⟩) := by
  pointwise

theorem lanes_apply {κ : Kind} {sp : Space} (v : View sig κ sp S1024x1024 .f32) (x6 : FVec Ideal S1x1024 .f32) (o : ℕ) (h : S1024x1024.Slices ![0, o] S1024x128) (r : Fin 1024) (l : Fin 128)
    (ho : o + l.val < 1024) :
    extractStridedSlice S1024x128 ![0, o] (reread x0 x1 x2 x3 x4 xs v x6) h (ix2 r l) = renorm x0 x1 x2 x3 x4 xs x6 r ⟨o + l.val, ho⟩ :=
  (slice_apply _ o h r l ho).trans (reread_apply x0 x1 x2 x3 x4 xs v x6 r _)

/-- The eight stores of the rows, the last first. -/
def storedRows {κ : Kind} {sp : Space} (v : View sig κ sp S1024x1024 .f32) (x6 : FVec Ideal S1x1024 .f32) : List (View.Piece (Elt Ideal) S8192x128 .f32) :=
  [⟨eighth 7 inb_S8192x128_S1024x128_7_0_s_8_1, k0_pay20 (reread x0 x1 x2 x3 x4 xs v x6)⟩,
    ⟨eighth 6 inb_S8192x128_S1024x128_6_0_s_8_1, k0_pay19 (reread x0 x1 x2 x3 x4 xs v x6)⟩,
    ⟨eighth 5 inb_S8192x128_S1024x128_5_0_s_8_1, k0_pay18 (reread x0 x1 x2 x3 x4 xs v x6)⟩,
    ⟨eighth 4 inb_S8192x128_S1024x128_4_0_s_8_1, k0_pay17 (reread x0 x1 x2 x3 x4 xs v x6)⟩,
    ⟨eighth 3 inb_S8192x128_S1024x128_3_0_s_8_1, k0_pay16 (v.readCov (Val := Elt Ideal) (stored x0 x1 x2 x3 x4 xs) (Rect.unit (s := S1024x1024) ![0, 0] ![1024, 1024] inb_S1024x1024_S1024x1024_0_0).toLoadRect) x6⟩,
    ⟨eighth 2 inb_S8192x128_S1024x128_2_0_s_8_1, k0_pay15 (v.readCov (Val := Elt Ideal) (stored x0 x1 x2 x3 x4 xs) (Rect.unit (s := S1024x1024) ![0, 0] ![1024, 1024] inb_S1024x1024_S1024x1024_0_0).toLoadRect) x6⟩,
    ⟨eighth 1 inb_S8192x128_S1024x128_1_0_s_8_1, k0_pay14 (v.readCov (Val := Elt Ideal) (stored x0 x1 x2 x3 x4 xs) (Rect.unit (s := S1024x1024) ![0, 0] ![1024, 1024] inb_S1024x1024_S1024x1024_0_0).toLoadRect) x6⟩,
    ⟨eighth 0 inb_S8192x128_S1024x128_0_0_s_8_1, k0_pay13 (v.readCov (Val := Elt Ideal) (stored x0 x1 x2 x3 x4 xs) (Rect.unit (s := S1024x1024) ![0, 0] ![1024, 1024] inb_S1024x1024_S1024x1024_0_0).toLoadRect) x6⟩]

theorem storedRows_eq {κ : Kind} {sp : Space} (v : View sig κ sp S1024x1024 .f32) (x6 : FVec Ideal S1x1024 .f32) :
    ∀ p ∈ storedRows x0 x1 x2 x3 x4 xs v x6, ∀ x : p.1.shape.Idx, p.2 x = (fun y : S8192x128.Idx => renorm x0 x1 x2 x3 x4 xs x6 ⟨(y 0).val / 8, Nat.div_lt_of_lt_mul (y 0).isLt⟩
      ⟨128 * ((y 0).val % 8) + (y 1).val, by
        have : (y 1).val < 128 := (y 1).isLt
        omega⟩) (p.1.emb x) :=
  List.forall_mem_cons.2 ⟨fun x => row_eq 7 inb_S8192x128_S1024x128_7_0_s_8_1 (by decide) (renorm x0 x1 x2 x3 x4 xs x6) _ (fun r l => lanes_apply x0 x1 x2 x3 x4 xs v x6 896 slices_S1024x1024_o0_896_S1024x128 r l (by omega)) x,
    List.forall_mem_cons.2 ⟨fun x => row_eq 6 inb_S8192x128_S1024x128_6_0_s_8_1 (by decide) (renorm x0 x1 x2 x3 x4 xs x6) _ (fun r l => lanes_apply x0 x1 x2 x3 x4 xs v x6 768 slices_S1024x1024_o0_768_S1024x128 r l (by omega)) x,
    List.forall_mem_cons.2 ⟨fun x => row_eq 5 inb_S8192x128_S1024x128_5_0_s_8_1 (by decide) (renorm x0 x1 x2 x3 x4 xs x6) _ (fun r l => lanes_apply x0 x1 x2 x3 x4 xs v x6 640 slices_S1024x1024_o0_640_S1024x128 r l (by omega)) x,
    List.forall_mem_cons.2 ⟨fun x => row_eq 4 inb_S8192x128_S1024x128_4_0_s_8_1 (by decide) (renorm x0 x1 x2 x3 x4 xs x6) _ (fun r l => lanes_apply x0 x1 x2 x3 x4 xs v x6 512 slices_S1024x1024_o0_512_S1024x128 r l (by omega)) x,
    List.forall_mem_cons.2 ⟨fun x => row_eq 3 inb_S8192x128_S1024x128_3_0_s_8_1 (by decide) (renorm x0 x1 x2 x3 x4 xs x6) _ (fun r l => lanes_apply x0 x1 x2 x3 x4 xs v x6 384 slices_S1024x1024_o0_384_S1024x128 r l (by omega)) x,
    List.forall_mem_cons.2 ⟨fun x => row_eq 2 inb_S8192x128_S1024x128_2_0_s_8_1 (by decide) (renorm x0 x1 x2 x3 x4 xs x6) _ (fun r l => lanes_apply x0 x1 x2 x3 x4 xs v x6 256 slices_S1024x1024_o0_256_S1024x128 r l (by omega)) x,
    List.forall_mem_cons.2 ⟨fun x => row_eq 1 inb_S8192x128_S1024x128_1_0_s_8_1 (by decide) (renorm x0 x1 x2 x3 x4 xs x6) _ (fun r l => lanes_apply x0 x1 x2 x3 x4 xs v x6 128 slices_S1024x1024_o0_128_S1024x128 r l (by omega)) x,
    List.forall_mem_cons.2 ⟨fun x => row_eq 0 inb_S8192x128_S1024x128_0_0_s_8_1 (by decide) (renorm x0 x1 x2 x3 x4 xs x6) _ (fun r l => lanes_apply x0 x1 x2 x3 x4 xs v x6 0 slices_S1024x1024_o0_0_S1024x128 r l (by omega)) x,
    fun _ hx => absurd hx List.not_mem_nil⟩⟩⟩⟩⟩⟩⟩⟩

end Stored

/-- The first point keeps the cast weights. -/
theorem scratch_A (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec Ideal S1024x1024 .f32) (x1 : Vec Ideal S4x1024x128 .f32) (x2 : Vec Ideal S4x1024x128 .f32) (x3 : Vec Ideal S1x512 .f32) (x4 : Vec Ideal S1x512 .f32) (x5 : Vec Ideal S1024x1024 .f32) (x6 : Vec Ideal S1x1024 .f32) (x7 : Vec Ideal S32x1024 .bf16) :
    sout0_A_0 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay2 x5 := by
  unfold sout0_A_0 kernelRun0_A
  dsimp only
  sl_unfold_words
  simp only [View.readAt_eq_ld, harg6.read_unread, ld_square]
  exact load_stored_all _ _

theorem out8_A (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec Ideal S1024x1024 .f32) (x1 : Vec Ideal S4x1024x128 .f32) (x2 : Vec Ideal S4x1024x128 .f32) (x3 : Vec Ideal S1x512 .f32) (x4 : Vec Ideal S1x512 .f32) (x5 : Vec Ideal S1024x1024 .f32) (x6 : Vec Ideal S1x1024 .f32) (x7 : Vec Ideal S32x1024 .bf16) (r n : Fin 1024) :
    out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 (ix2 r n) = token x0 x1 x2 x3 x4 (k0_pay2 x5) r n := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  refine View.canon_apply_of_pieces (fun y : S1024x1024.Idx => token x0 x1 x2 x3 x4 (k0_pay2 x5) (y 0) (y 1)) _ ?_ (ix2 r n) (cover0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 (ix2 r n))
  unfold kernelRun0_A
  dsimp only
  sl_unfold_words
  simp only [View.readAt_eq_ld, harg1.read_unread, harg2.read_unread, harg3.read_unread, harg4.read_unread, harg5.read_unread, harg6.read_unread, harg7.read_unread, harg8.read_unread, harg12.read_unread, ld_gain, ld_gains, ld_square, load_stored]
  exact stored_eq x0 x1 x2 x3 x4 (k0_pay2 x5)

theorem out8_B (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec Ideal S1024x1024 .f32) (x1 : Vec Ideal S4x1024x128 .f32) (x2 : Vec Ideal S4x1024x128 .f32) (x3 : Vec Ideal S1x512 .f32) (x4 : Vec Ideal S1x512 .f32) (x5 : Vec Ideal S1024x1024 .f32) (x6 : Vec Ideal S1x1024 .f32) (x7 : Vec Ideal S32x1024 .bf16) (xs0 : Vec Ideal S1024x1024 .bf16) (r n : Fin 1024) :
    out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 (ix2 r n) = token x0 x1 x2 x3 x4 xs0 r n := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0)]
  refine View.canon_apply_of_pieces (fun y : S1024x1024.Idx => token x0 x1 x2 x3 x4 xs0 (y 0) (y 1)) _ ?_ (ix2 r n) (cover0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 (ix2 r n))
  unfold kernelRun0_B
  dsimp only
  sl_unfold_words
  simp only [View.readAt_eq_ld, harg1.read_unread, harg2.read_unread, harg3.read_unread, harg4.read_unread, harg5.read_unread, harg6.read_unread, harg7.read_unread, harg8.read_unread, harg12.read_unread, ld_gain, ld_gains, ld_square, load_stored]
  exact stored_eq x0 x1 x2 x3 x4 xs0

theorem out9_A (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec Ideal S1024x1024 .f32) (x1 : Vec Ideal S4x1024x128 .f32) (x2 : Vec Ideal S4x1024x128 .f32) (x3 : Vec Ideal S1x512 .f32) (x4 : Vec Ideal S1x512 .f32) (x5 : Vec Ideal S1024x1024 .f32) (x6 : Vec Ideal S1x1024 .f32) (x7 : Vec Ideal S32x1024 .bf16) (y : S8192x128.Idx) :
    out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 y = renorm x0 x1 x2 x3 x4 (k0_pay2 x5) x6 ⟨(y 0).val / 8, Nat.div_lt_of_lt_mul (y 0).isLt⟩
      ⟨128 * ((y 0).val % 8) + (y 1).val, by
        have : (y 1).val < 128 := (y 1).isLt
        omega⟩ := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  refine View.canon_apply_of_pieces (fun y : S8192x128.Idx => renorm x0 x1 x2 x3 x4 (k0_pay2 x5) x6 ⟨(y 0).val / 8, Nat.div_lt_of_lt_mul (y 0).isLt⟩
      ⟨128 * ((y 0).val % 8) + (y 1).val, by
        have : (y 1).val < 128 := (y 1).isLt
        omega⟩) _ ?_ y (cover0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg12.read_unread, ld_gain, ld_gains, ld_square, load_stored]
  exact storedRows_eq x0 x1 x2 x3 x4 (k0_pay2 x5) _ x6

theorem out9_B (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec Ideal S1024x1024 .f32) (x1 : Vec Ideal S4x1024x128 .f32) (x2 : Vec Ideal S4x1024x128 .f32) (x3 : Vec Ideal S1x512 .f32) (x4 : Vec Ideal S1x512 .f32) (x5 : Vec Ideal S1024x1024 .f32) (x6 : Vec Ideal S1x1024 .f32) (x7 : Vec Ideal S32x1024 .bf16) (xs0 : Vec Ideal S1024x1024 .bf16) (y : S8192x128.Idx) :
    out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y = renorm x0 x1 x2 x3 x4 xs0 x6 ⟨(y 0).val / 8, Nat.div_lt_of_lt_mul (y 0).isLt⟩
      ⟨128 * ((y 0).val % 8) + (y 1).val, by
        have : (y 1).val < 128 := (y 1).isLt
        omega⟩ := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0)]
  refine View.canon_apply_of_pieces (fun y : S8192x128.Idx => renorm x0 x1 x2 x3 x4 xs0 x6 ⟨(y 0).val / 8, Nat.div_lt_of_lt_mul (y 0).isLt⟩
      ⟨128 * ((y 0).val % 8) + (y 1).val, by
        have : (y 1).val < 128 := (y 1).isLt
        omega⟩) _ ?_ y (cover0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg12.read_unread, ld_gain, ld_gains, ld_square, load_stored]
  exact storedRows_eq x0 x1 x2 x3 x4 xs0 _ x6

end Cert.Kernel3Ideal.Mix

end
-- ==== Proof.MixReference.lean ====
/-
  The reference of the mixing lines, read entry by entry over the extended reals.
-/
module

public import proofs.«01_k».proof.Proof.Gen.Reference3Ideal.Run
public import proofs.«01_k».proof.Proof.MixMath
public import Idealize.ShloMosaic.Lib.Pointwise

@[expose] public section

noncomputable section

namespace Cert.Reference3Ideal.Mixing

open Cert.Reference3Ideal Cert.Reference3Ideal.Gen Cert.Mixing
open Idealize.ShloMosaic Idealize.ShloMosaic.TcCoe Idealize.SL.Sem

/-- A group's heads, a token's side by side. -/
def heads (a : FVec Ideal S4x16384x128 .f32) : FVec Ideal S16384x512 .f32 :=
  shapeCast _ (transpose S16384x4x128 [1, 0, 2] a transposes_S4x16384x128_S16384x4x128_1_0_2) shapeCasts_S16384x4x128_S16384x512

/-- A group's heads normalized. -/
def headNorm (h : FVec Ideal S16384x512 .f32) (g : FVec Ideal S512 .f32) : FVec Ideal S16384x512 .f32 :=
  (mulf (mulf h (broadcastInDim S16384x512 ![0, 1] bcast_S16384x1_S16384x512_0_1 (Host.rsqrt (addf (Host.divf (broadcastInDim S16384x1 ![0] bcast_S16384_S16384x1_0 (Host.reduceAdd (mulf h h) (constant S_ .f32 0x00000000#32) reducesTo_S16384x512_S16384_d1 h_S_)) (broadcastInDim S16384x1 ![] bcast_S_S16384x1 (constant S_ .f32 0x44000000#32))) (broadcastInDim S16384x1 ![] bcast_S_S16384x1 (constant S_ .f32 0x358637BD#32)))))) (broadcastInDim S16384x512 ![0, 1] bcast_S1x512_S16384x512_0_1 (broadcastInDim S1x512 ![1] bcast_S512_S1x512_1 g)))

/-- The two groups, one after the other. -/
def both (p q : FVec Ideal S16384x512 .f32) : FVec Ideal S16384x1024 .f32 :=
  concatenate S16384x1024 1 [⟨S16384x512, p⟩, ⟨S16384x512, q⟩] concatenates_S16384x512_S16384x512_S16384x1024_d1

/-- The tokens with the output projection added. -/
def tokens (x : FVec Ideal S16384x1024 .f32) (h : FVec Ideal S16384x1024 .f32) (w : FVec Ideal S1024x1024 .f32) : FVec Ideal S4x4096x1024 .f32 :=
  (addf (shapeCast _ x shapeCasts_S16384x1024_S4x4096x1024) (Host.dotGeneral dot_S4x4096x1024_S1024x1024_S4x4096x1024_2_0_01_1_n_n none (shapeCast _ h shapeCasts_S16384x1024_S4x4096x1024) w))

theorem cast_rows {α : Type} (v : S16384x1024.Idx → α) (h : S16384x1024.ShapeCasts S4x4096x1024) (b : Fin 4) (s : Fin 4096) (k : Fin 1024) :
    shapeCast S4x4096x1024 v h (ix3 b s k) = v (ix2 (⟨b.val * 4096 + s.val, by omega⟩ : Fin 16384) k) := by
  have e : Shape.reshapeEquiv h (ix3 b s k : S4x4096x1024.Idx) = (ix2 (⟨b.val * 4096 + s.val, by omega⟩ : Fin 16384) k : S16384x1024.Idx) := by
    apply Shape.reshapeEquiv_eq_of_rowMajor
    rw [Shape.rowMajor_val_two, Shape.rowMajor_val_three]
    show (b.val * 4096 + s.val) * 1024 + k.val = (b.val * 4096 + s.val) * 1024 + k.val
    omega
  exact congrArg v e

theorem heads_apply (a : FVec Ideal S4x16384x128 .f32) (t : Fin 16384) (q : Fin 512) :
    heads a (ix2 t q) = lanes (fun c t l => a (ix3 c t l)) t q := by
  have e : Shape.reshapeEquiv shapeCasts_S16384x4x128_S16384x512 (ix2 t q : S16384x512.Idx) =
      (ix3 t (⟨q.val / 128, by omega⟩ : Fin 4) (⟨q.val % 128, by omega⟩ : Fin 128) : S16384x4x128.Idx) := by
    apply Shape.reshapeEquiv_eq_of_rowMajor
    rw [Shape.rowMajor_val_two, Shape.rowMajor_val_three]
    show (t.val * 4 + q.val / 128) * 128 + q.val % 128 = t.val * 512 + q.val
    omega
  unfold heads lanes
  refine (congrArg (transpose S16384x4x128 [1, 0, 2] a transposes_S4x16384x128_S16384x4x128_1_0_2) e).trans ?_
  pointwise

theorem headNorm_apply (h : FVec Ideal S16384x512 .f32) (g : FVec Ideal S512 .f32) (t : Fin 16384) (q : Fin 512) :
    headNorm h g (ix2 t q) = normed (Ideal.ofBits FTy.f32 1140850688#32) (fun q => h (ix2 t q)) (fun q => g (ix1 q)) q := by
  unfold headNorm
  pointwise
  rfl

theorem both_apply (p q : FVec Ideal S16384x512 .f32) (t : Fin 16384) (k : Fin 1024) :
    both p q (ix2 t k) = if h : k.val < 512 then p (ix2 t ⟨k.val, h⟩) else q (ix2 t ⟨k.val - 512, by omega⟩) := by
  unfold both
  pointwise

theorem tokens_apply (x h : FVec Ideal S16384x1024 .f32) (w : FVec Ideal S1024x1024 .f32) (b : Fin 4) (s : Fin 4096) (n : Fin 1024) :
    tokens x h w (ix3 b s n) = x (ix2 (⟨b.val * 4096 + s.val, by omega⟩ : Fin 16384) n) +
      ∑ k : Fin 1024, (h (ix2 (⟨b.val * 4096 + s.val, by omega⟩ : Fin 16384) k) : EReal) * w (ix2 k n) := by
  unfold tokens
  pointwise

/-- The tokens with their mixed heads' projection added. -/
def mixedTokens (x : FVec Ideal S16384x1024 .f32) (a b : FVec Ideal S4x16384x128 .f32) (ga gb : FVec Ideal S512 .f32) (w : FVec Ideal S1024x1024 .f32) : FVec Ideal S4x4096x1024 .f32 :=
  tokens x (both (headNorm (heads a) ga) (headNorm (heads b) gb)) w

/-- The tokens normalized. -/
def tokenNorm (T : FVec Ideal S4x4096x1024 .f32) (g : FVec Ideal S1024 .f32) : FVec Ideal S4x4096x1024 .f32 :=
  (mulf (mulf T (broadcastInDim S4x4096x1024 ![0, 1, 2] bcast_S4x4096x1_S4x4096x1024_0_1_2 (Host.rsqrt (addf (Host.divf (broadcastInDim S4x4096x1 ![0, 1] bcast_S4x4096_S4x4096x1_0_1 (Host.reduceAdd (mulf T T) (constant S_ .f32 0x00000000#32) reducesTo_S4x4096x1024_S4x4096_d2 h_S_)) (broadcastInDim S4x4096x1 ![] bcast_S_S4x4096x1 (constant S_ .f32 0x44800000#32))) (broadcastInDim S4x4096x1 ![] bcast_S_S4x4096x1 (constant S_ .f32 0x358637BD#32)))))) (broadcastInDim S4x4096x1024 ![0, 1, 2] bcast_S1x1x1024_S4x4096x1024_0_1_2 (broadcastInDim S1x1x1024 ![2] bcast_S1024_S1x1x1024_2 g)))

theorem tokenNorm_apply (T : FVec Ideal S4x4096x1024 .f32) (g : FVec Ideal S1024 .f32) (b : Fin 4) (s : Fin 4096) (n : Fin 1024) :
    tokenNorm T g (ix3 b s n) = normed (Ideal.ofBits FTy.f32 1149239296#32) (fun n => T (ix3 b s n)) (fun n => g (ix1 n)) n := by
  unfold tokenNorm
  pointwise
  rfl

/-- Token `t` of the result. -/
def tokenAt (x : FVec Ideal S16384x1024 .f32) (a b : FVec Ideal S4x16384x128 .f32) (ga gb : FVec Ideal S512 .f32) (w : FVec Ideal S1024x1024 .f32) (t : Fin 16384) : Fin 1024 → EReal :=
  summed (fun n => x (ix2 t n)) (lanes (fun c t l => a (ix3 c t l)) t) (lanes (fun c t l => b (ix3 c t l)) t) (fun q => ga (ix1 q)) (fun q => gb (ix1 q)) (fun k n => w (ix2 k n))

theorem mixedTokens_apply (x : FVec Ideal S16384x1024 .f32) (a b : FVec Ideal S4x16384x128 .f32) (ga gb : FVec Ideal S512 .f32) (w : FVec Ideal S1024x1024 .f32) (i : Fin 4) (s : Fin 4096) (n : Fin 1024) :
    mixedTokens x a b ga gb w (ix3 i s n) = tokenAt x a b ga gb w ⟨i.val * 4096 + s.val, by omega⟩ n := by
  unfold mixedTokens tokenAt summed mixed
  rw [tokens_apply]
  refine congrArg _ (Finset.sum_congr rfl fun k _ => congrArg (fun v : EReal => v * w (ix2 k n)) ?_)
  rw [both_apply]
  simp only [headNorm_apply, heads_apply]

/-- The tokens as rows of 1024. -/
def rows (T : FVec Ideal S4x4096x1024 .f32) : FVec Ideal S16384x1024 .f32 := shapeCast _ T shapeCasts_S4x4096x1024_S16384x1024

/-- The tokens as rows of 128 lanes, eight a token. -/
def laneRows (T : FVec Ideal S4x4096x1024 .f32) : FVec Ideal S131072x128 .f32 := shapeCast _ T shapeCasts_S4x4096x1024_S131072x128

theorem rows_apply (T : FVec Ideal S4x4096x1024 .f32) (t : Fin 16384) (n : Fin 1024) :
    rows T (ix2 t n) = T (ix3 (⟨t.val / 4096, by omega⟩ : Fin 4) (⟨t.val % 4096, by omega⟩ : Fin 4096) n) := by
  have e : Shape.reshapeEquiv shapeCasts_S4x4096x1024_S16384x1024 (ix2 t n : S16384x1024.Idx) =
      (ix3 (⟨t.val / 4096, by omega⟩ : Fin 4) (⟨t.val % 4096, by omega⟩ : Fin 4096) n : S4x4096x1024.Idx) := by
    apply Shape.reshapeEquiv_eq_of_rowMajor
    rw [Shape.rowMajor_val_two, Shape.rowMajor_val_three]
    show (t.val / 4096 * 4096 + t.val % 4096) * 1024 + n.val = t.val * 1024 + n.val
    omega
  exact congrArg T e

theorem laneRows_apply (T : FVec Ideal S4x4096x1024 .f32) (j : Fin 131072) (l : Fin 128) :
    laneRows T (ix2 j l) = T (ix3 (⟨j.val / 8 / 4096, by omega⟩ : Fin 4) (⟨j.val / 8 % 4096, by omega⟩ : Fin 4096) (⟨128 * (j.val % 8) + l.val, by omega⟩ : Fin 1024)) := by
  have e : Shape.reshapeEquiv shapeCasts_S4x4096x1024_S131072x128 (ix2 j l : S131072x128.Idx) =
      (ix3 (⟨j.val / 8 / 4096, by omega⟩ : Fin 4) (⟨j.val / 8 % 4096, by omega⟩ : Fin 4096) (⟨128 * (j.val % 8) + l.val, by omega⟩ : Fin 1024) : S4x4096x1024.Idx) := by
    apply Shape.reshapeEquiv_eq_of_rowMajor
    rw [Shape.rowMajor_val_two, Shape.rowMajor_val_three]
    show (j.val / 8 / 4096 * 4096 + j.val / 8 % 4096) * 1024 + (128 * (j.val % 8) + l.val) = j.val * 128 + l.val
    omega
  exact congrArg T e

theorem token_out (x : FVec Ideal S16384x1024 .f32) (a b : FVec Ideal S4x16384x128 .f32) (ga gb : FVec Ideal S512 .f32) (w : FVec Ideal S1024x1024 .f32) (t : Fin 16384) (n : Fin 1024) :
    rows (mixedTokens x a b ga gb w) (ix2 t n) = tokenAt x a b ga gb w t n := by
  rw [rows_apply, mixedTokens_apply]
  exact congrArg (fun t => tokenAt x a b ga gb w t n) (Fin.ext (by dsimp only; omega))

theorem norm_out (x : FVec Ideal S16384x1024 .f32) (a b : FVec Ideal S4x16384x128 .f32) (ga gb : FVec Ideal S512 .f32) (w : FVec Ideal S1024x1024 .f32) (g : FVec Ideal S1024 .f32) (j : Fin 131072) (l : Fin 128) :
    laneRows (tokenNorm (mixedTokens x a b ga gb w) g) (ix2 j l) =
      normed (Ideal.ofBits FTy.f32 1149239296#32) (tokenAt x a b ga gb w ⟨j.val / 8, by omega⟩) (fun n => g (ix1 n)) ⟨128 * (j.val % 8) + l.val, by omega⟩ := by
  rw [laneRows_apply, tokenNorm_apply]
  refine congrArg (fun v => normed (Ideal.ofBits FTy.f32 1149239296#32) v (fun n => g (ix1 n)) _) (funext fun n => ?_)
  rw [mixedTokens_apply]
  exact congrArg (fun t => tokenAt x a b ga gb w t n) (Fin.ext (by dsimp only; omega))

/-! ## The run -/

section Run

variable [Facts]
variable (m : (ℓ : Loc nD τ sig) → Buf (Elt Ideal) ℓ) (c : Dev nD)

/-- The tokens the program computes from its arguments. -/
def ofArgs : FVec Ideal S4x4096x1024 .f32 :=
  mixedTokens (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

theorem norm_eq : Cert.Reference3Ideal.Value.res_main_v49 m c = laneRows (tokenNorm (ofArgs m c) (m ((c.tc : Thread nD τ).loc main_arg6))) := rfl

theorem run (ρ : Dev nD → PrngReg) :
    θ_run defs (onTc (τ := τ) (main (F := Ideal))) ⟨m, fun _ => 0, ρ⟩ fun r => ∀ c : Dev nD,
      r.2.mem ((c.tc : Thread nD τ).loc main_v48) = rows (ofArgs m c)
      ∧ r.2.mem ((c.tc : Thread nD τ).loc main_v49) = laneRows (tokenNorm (ofArgs m c) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c).1.trans rfl, (h c).2.1.trans (norm_eq m c), (h c).2.2⟩) (Cert.Reference3Ideal.Value.run m ρ)

end Run

end Cert.Reference3Ideal.Mixing

end
-- ==== Proof.MixValue.lean ====
/-
  What the mixing kernel leaves, against the reference.  Over the extended reals the call's first two outputs, entry by
  entry, are the reference's: the block that grid point `t` writes holds tokens `1024 t` to `1024 t + 1023`, its weights
  are the ones the first point kept, and the rows of 128 lanes come eight to a token.
-/
module

public import proofs.«01_k».proof.Proof.MixBody
public import proofs.«01_k».proof.Proof.MixReference
public import Idealize.ShloMosaic.Lib.Pointwise

@[expose] public section

noncomputable section

namespace Cert.Kernel3Ideal.Mix

open Cert.Kernel3Ideal Cert.Kernel3Ideal.Gen Cert.Mixing
open Idealize.ShloMosaic Idealize.ShloMosaic.TcCoe Idealize.SL.Sem

/-! ## The gains -/

section Gains

variable [Facts]
variable (m : (ℓ : Loc nD τ sig) → Buf (Elt Ideal) ℓ) (c : Dev nD)

theorem V_gain3 (u : Fin 1) (k : Fin 512) : V m c main_v7 (ix2 u k) = m ((c : Thread nD τ).loc main_arg3) (ix1 k) := by
  unfold V
  simp only [hostOps0]
  after_results_simp
  have e : Shape.reshapeEquiv shapeCasts_S512_S1x512 (ix2 u k : S1x512.Idx) = (ix1 k : S512.Idx) := by
    apply Shape.reshapeEquiv_eq_of_rowMajor
    rw [Shape.rowMajor_val_two, Shape.rowMajor_val_one]
    show k.val = u.val * 512 + k.val
    omega
  exact congrArg (m ((c : Thread nD τ).loc main_arg3)) e

theorem V_gain4 (u : Fin 1) (k : Fin 512) : V m c main_v8 (ix2 u k) = m ((c : Thread nD τ).loc main_arg4) (ix1 k) := by
  unfold V
  simp only [hostOps0]
  after_results_simp
  have e : Shape.reshapeEquiv shapeCasts_S512_S1x512 (ix2 u k : S1x512.Idx) = (ix1 k : S512.Idx) := by
    apply Shape.reshapeEquiv_eq_of_rowMajor
    rw [Shape.rowMajor_val_two, Shape.rowMajor_val_one]
    show k.val = u.val * 512 + k.val
    omega
  exact congrArg (m ((c : Thread nD τ).loc main_arg4)) e

theorem V_gain6 (u : Fin 1) (k : Fin 1024) : V m c main_v9 (ix2 u k) = m ((c : Thread nD τ).loc main_arg6) (ix1 k) := by
  unfold V
  simp only [hostOps0]
  after_results_simp
  have e : Shape.reshapeEquiv shapeCasts_S1024_S1x1024 (ix2 u k : S1x1024.Idx) = (ix1 k : S1024.Idx) := by
    apply Shape.reshapeEquiv_eq_of_rowMajor
    rw [Shape.rowMajor_val_two, Shape.rowMajor_val_one]
    show k.val = u.val * 1024 + k.val
    omega
  exact congrArg (m ((c : Thread nD τ).loc main_arg6)) e

end Gains

/-! ## The blocks -/

section Blocks

variable [Facts]
variable (m : (ℓ : Loc nD τ sig) → Buf (Elt Ideal) ℓ) (c : Dev nD) (t : Fin cfg0.N)

theorem idx : ∀ t : Fin cfg0.N, win0_0.index t = ![t.val, 0] ∧ win0_1.index t = ![0, t.val, 0] ∧ win0_2.index t = ![0, t.val, 0]
    ∧ win0_3.index t = ![0, 0] ∧ win0_4.index t = ![0, 0] ∧ win0_5.index t = ![0, 0] ∧ win0_6.index t = ![0, 0] :=
  (by decide +kernel : ∀ t : Fin grid0.N, win0_0.index t = ![t.val, 0] ∧ win0_1.index t = ![0, t.val, 0] ∧ win0_2.index t = ![0, t.val, 0]
    ∧ win0_3.index t = ![0, 0] ∧ win0_4.index t = ![0, 0] ∧ win0_5.index t = ![0, 0] ∧ win0_6.index t = ![0, 0])

theorem idx_out : ∀ t : Fin cfg0.N, win0_8.index t = ![t.val, 0] ∧ win0_9.index t = ![t.val, 0] :=
  (by decide +kernel : ∀ t : Fin grid0.N, win0_8.index t = ![t.val, 0] ∧ win0_9.index t = ![t.val, 0])

theorem points : t.val < 16 := t.isLt

theorem iblk0 (r k : Fin 1024) : (iblk m c 0 t : FVec Ideal S1024x1024 .f32) (ix2 r k) =
    m ((c : Thread nD τ).loc main_arg0) (ix2 ⟨1024 * t.val + r.val, by have := points t; omega⟩ k) := by
  have e := idx t
  blk_ext [iblk, V_main_arg0, e.1]

theorem iblk1 (a : Fin 4) (r : Fin 1024) (l : Fin 128) : (iblk m c 1 t : FVec Ideal S4x1024x128 .f32) (ix3 a r l) =
    m ((c : Thread nD τ).loc main_arg1) (ix3 a ⟨1024 * t.val + r.val, by have := points t; omega⟩ l) := by
  have e := idx t
  blk_ext [iblk, V_main_arg1, e.2.1]

theorem iblk2 (a : Fin 4) (r : Fin 1024) (l : Fin 128) : (iblk m c 2 t : FVec Ideal S4x1024x128 .f32) (ix3 a r l) =
    m ((c : Thread nD τ).loc main_arg2) (ix3 a ⟨1024 * t.val + r.val, by have := points t; omega⟩ l) := by
  have e := idx t
  blk_ext [iblk, V_main_arg2, e.2.2.1]

theorem iblk3 (u : Fin 1) (k : Fin 512) : (iblk m c 3 t : FVec Ideal S1x512 .f32) (ix2 u k) = m ((c : Thread nD τ).loc main_arg3) (ix1 k) := by
  have e := idx t
  rw [← V_gain3 m c u k]
  blk_ext [iblk, e.2.2.2.1]

theorem iblk4 (u : Fin 1) (k : Fin 512) : (iblk m c 4 t : FVec Ideal S1x512 .f32) (ix2 u k) = m ((c : Thread nD τ).loc main_arg4) (ix1 k) := by
  have e := idx t
  rw [← V_gain4 m c u k]
  blk_ext [iblk, e.2.2.2.2.1]

theorem iblk5 (k n : Fin 1024) : (iblk m c 5 t : FVec Ideal S1024x1024 .f32) (ix2 k n) = m ((c : Thread nD τ).loc main_arg5) (ix2 k n) := by
  have e := idx t
  blk_ext [iblk, V_main_arg5, e.2.2.2.2.2.1]

theorem iblk6 (u : Fin 1) (k : Fin 1024) : (iblk m c 6 t : FVec Ideal S1x1024 .f32) (ix2 u k) = m ((c : Thread nD τ).loc main_arg6) (ix1 k) := by
  have e := idx t
  rw [← V_gain6 m c u k]
  blk_ext [iblk, e.2.2.2.2.2.2]

theorem iblk5_eq (t' : Fin cfg0.N) : (iblk m c 5 t : FVec Ideal S1024x1024 .f32) = iblk m c 5 t' := by
  funext y
  obtain ⟨k, n, rfl⟩ : ∃ (k n : Fin 1024), y = ix2 k n := ⟨y 0, y 1, eq_ix2 y⟩
  rw [iblk5, iblk5]

end Blocks

/-! ## The two outputs' blocks -/

section Points

variable [Facts]
variable (m : (ℓ : Loc nD τ sig) → Buf (Elt Ideal) ℓ) (c : Dev nD) (t : Fin cfg0.N)

/-- The scratch holds the cast weights after every point. -/
theorem scratch (n : ℕ) (hn : n < cfg0.N) : (outsAt0 m c n hn).2.2.2 = k0_pay2 (iblk m c 5 ⟨n, hn⟩) := by
  induction n with
  | zero =>
    rw [outsAt0_A m c ⟨0, hn⟩ rfl]
    dsimp only
    exact scratch_A _ _ _ _ _ _ _ _ _ _ _ _ _ _ _ _ _ _ _ _ _ _ _ _ _ _ _ _ _ _ _ _ _ _ _
  | succ n ih =>
    have h16 : n + 1 < 16 := hn
    have h0 : ¬(n + 1) % 16 = 0 := by omega
    rw [outsAt0_B m c ⟨n + 1, hn⟩ h0]
    refine Eq.trans ?_ ((ih (by omega)).trans (congrArg k0_pay2 (iblk5_eq m c _ _)))
    dsimp only
    exact rfl

theorem point8 (r n : Fin 1024) :
    (outsAt0 m c t.val t.isLt).1 (ix2 r n) =
      token (iblk m c 0 t) (iblk m c 1 t) (iblk m c 2 t) (iblk m c 3 t) (iblk m c 4 t) (k0_pay2 (iblk m c 5 t)) r n := by
  by_cases h0 : t.val % 16 = 0
  · rw [outsAt0_A m c t h0]
    dsimp only
    exact out8_A _ _ _ _ _ _ _ _ _ _ _ _ _ _ _ _ _ _ _ _ _ _ _ _ _ _ _ _ _ _ _ _ _ _ _ r n
  · rw [outsAt0_B m c t h0, scratch m c (t.val - 1), iblk5_eq m c ⟨t.val - 1, _⟩ t]
    dsimp only
    exact out8_B _ _ _ _ _ _ _ _ _ _ _ _ _ _ _ _ _ _ _ _ _ _ _ _ _ _ _ _ _ _ _ _ _ _ _ _ r n

theorem point9 (y : S8192x128.Idx) :
    (outsAt0 m c t.val t.isLt).2.1 y =
      renorm (iblk m c 0 t) (iblk m c 1 t) (iblk m c 2 t) (iblk m c 3 t) (iblk m c 4 t) (k0_pay2 (iblk m c 5 t)) (iblk m c 6 t)
        ⟨(y 0).val / 8, Nat.div_lt_of_lt_mul (y 0).isLt⟩ ⟨128 * ((y 0).val % 8) + (y 1).val, by
          have : (y 1).val < 128 := (y 1).isLt
          omega⟩ := by
  by_cases h0 : t.val % 16 = 0
  · rw [outsAt0_A m c t h0]
    dsimp only
    exact out9_A _ _ _ _ _ _ _ _ _ _ _ _ _ _ _ _ _ _ _ _ _ _ _ _ _ _ _ _ _ _ _ _ _ _ _ y
  · rw [outsAt0_B m c t h0, scratch m c (t.val - 1), iblk5_eq m c ⟨t.val - 1, _⟩ t]
    dsimp only
    exact out9_B _ _ _ _ _ _ _ _ _ _ _ _ _ _ _ _ _ _ _ _ _ _ _ _ _ _ _ _ _ _ _ _ _ _ _ _ y

/-- A block's tokens are the array's. -/
theorem token_eq (r : Fin 1024) :
    token (iblk m c 0 t) (iblk m c 1 t) (iblk m c 2 t) (iblk m c 3 t) (iblk m c 4 t) (k0_pay2 (iblk m c 5 t)) r =
      Cert.Reference3Ideal.Mixing.tokenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        ⟨1024 * t.val + r.val, by have := points t; omega⟩ := by
  have hw : (fun k n => (k0_pay2 (iblk m c 5 t) : FVec Ideal S1024x1024 .bf16) (ix2 k n)) = fun (k n : Fin 1024) => (m ((c : Thread nD τ).loc main_arg5) : FVec Ideal S1024x1024 .f32) (ix2 k n) := by
    funext k n
    refine Eq.trans ?_ (iblk5 m c t k n)
    unfold k0_pay2
    pointwise
  unfold token Cert.Reference3Ideal.Mixing.tokenAt slabs
  rw [hw]
  simp only [iblk0, iblk3, iblk4]
  have h1 : lanes (fun a t' l => (iblk m c 1 t : FVec Ideal S4x1024x128 .f32) (ix3 a t' l)) r =
      lanes (fun a t' l => (m ((c : Thread nD τ).loc main_arg1) : FVec Ideal S4x16384x128 .f32) (ix3 a t' l)) ⟨1024 * t.val + r.val, by have := points t; omega⟩ :=
    funext fun q => iblk1 m c t _ r _
  have h2 : lanes (fun a t' l => (iblk m c 2 t : FVec Ideal S4x1024x128 .f32) (ix3 a t' l)) r =
      lanes (fun a t' l => (m ((c : Thread nD τ).loc main_arg2) : FVec Ideal S4x16384x128 .f32) (ix3 a t' l)) ⟨1024 * t.val + r.val, by have := points t; omega⟩ :=
    funext fun q => iblk2 m c t _ r _
  rw [h1, h2]

end Points

/-! ## The two outputs -/

section Outputs

variable [Facts]
variable (m : (ℓ : Loc nD τ sig) → Buf (Elt Ideal) ℓ) (c : Dev nD)

theorem arr8 : (dats m 0 c).arrAt 8 cfg0.N = Cert.Reference3Ideal.Mixing.rows (Cert.Reference3Ideal.Mixing.mixedTokens (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  refine (dats m 0 c).arrAt_eq_of_covers 8 _ (by decide +kernel) fun t hf y => ?_
  blk_simp
  rw [after0_8]
  obtain ⟨r, n, rfl⟩ : ∃ (r n : Fin 1024), y = ix2 r n := ⟨y 0, y 1, eq_ix2 y⟩
  have ht := points t
  have hi := idx_out t
  have hy : (win0_8.blk t).view.emb (ix2 r n) = ix2 ⟨1024 * t.val + r.val, by omega⟩ n := by
    blk_ext [hi.1]
  rw [hy, Cert.Reference3Ideal.Mixing.token_out]
  exact (point8 m c t r n).trans (congrFun (token_eq m c t r) n)

theorem arr9 : (dats m 0 c).arrAt 9 cfg0.N = Cert.Reference3Ideal.Mixing.laneRows (Cert.Reference3Ideal.Mixing.tokenNorm (Cert.Reference3Ideal.Mixing.mixedTokens (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) := by
  refine (dats m 0 c).arrAt_eq_of_covers 9 _ (by decide +kernel) fun t hf y => ?_
  blk_simp
  rw [after0_9]
  obtain ⟨j, l, rfl⟩ : ∃ (j : Fin 8192) (l : Fin 128), y = ix2 j l := ⟨y 0, y 1, eq_ix2 y⟩
  have ht := points t
  have hi := idx_out t
  have hy : (win0_9.blk t).view.emb (ix2 j l) = ix2 ⟨8192 * t.val + j.val, by omega⟩ l := by
    blk_ext [hi.2]
  rw [hy, Cert.Reference3Ideal.Mixing.norm_out]
  refine (point9 m c t (ix2 j l)).trans ?_
  unfold renorm
  rw [token_eq, funext fun n => iblk6 m c t 0 n]
  have e1 : 1024 * t.val + j.val / 8 = (8192 * t.val + j.val) / 8 := by omega
  have e2 : 128 * (j.val % 8) + l.val = 128 * ((8192 * t.val + j.val) % 8) + l.val := by omega
  exact congrArg₂ (fun (t : Fin 16384) (k : Fin 1024) => normed (Ideal.ofBits FTy.f32 1149239296#32) (Cert.Reference3Ideal.Mixing.tokenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t) (fun n => (m ((c : Thread nD τ).loc main_arg6)) (ix1 n)) k) (Fin.ext e1) (Fin.ext e2)

end Outputs

/-! ## The run -/

section Run

variable [Facts]
variable (m : (ℓ : Loc nD τ sig) → Buf (Elt Ideal) ℓ) (ρ : Dev nD → PrngReg)

theorem results : θ_run defs (onTc (τ := τ) (main (F := Ideal))) ⟨m, fun _ => 0, ρ⟩ fun r => ∀ c : Dev nD,
      r.2.mem ((c.tc : Thread nD τ).loc main_v10_0) = Cert.Reference3Ideal.Mixing.rows (Cert.Reference3Ideal.Mixing.mixedTokens (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c.tc : Thread nD τ).loc main_v10_1) = Cert.Reference3Ideal.Mixing.laneRows (Cert.Reference3Ideal.Mixing.tokenNorm (Cert.Reference3Ideal.Mixing.mixedTokens (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) :=
  (θ_run defs _ _).mono (fun _ h c => ⟨((h c).1 8).trans (arr8 m c), ((h c).1 9).trans (arr9 m c)⟩) (run_main m ρ)

theorem run : θ_run defs (onTc (τ := τ) (main (F := Ideal))) ⟨m, fun _ => 0, ρ⟩ fun r => ∀ c : Dev nD,
      r.2.mem ((c.tc : Thread nD τ).loc main_v10_0) = Cert.Reference3Ideal.Mixing.rows (Cert.Reference3Ideal.Mixing.mixedTokens (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))
      ∧ r.2.mem ((c.tc : Thread nD τ).loc main_v10_1) = Cert.Reference3Ideal.Mixing.laneRows (Cert.Reference3Ideal.Mixing.tokenNorm (Cert.Reference3Ideal.Mixing.mixedTokens (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h.1 c).1, (h.1 c).2, h.2 c⟩) (θ_run_and (results m ρ) (unchanged m ρ))

end Run

end Cert.Kernel3Ideal.Mix

end
-- ==== Proof.SameCall.lean ====
/-
  The mixing kernel's program and the affinities' make one call and differ in which of its results they return, so what is
  shown of one program's runs holds of the other's.
-/
module

public import proofs.«01_k».proof.Kernel3
public import proofs.«01_k».proof.Kernel3Ideal
public import proofs.«01_k».proof.Kernel4
public import proofs.«01_k».proof.Kernel4Ideal

@[expose] public section

noncomputable section

namespace Cert.Affinities

open Idealize.ShloMosaic Idealize.SL.Sem

section Words

variable {F : FTy → Type} [FloatOps F] [BitOps F] [Cert.Kernel3.Facts] [Cert.Kernel4.Facts]

theorem bodies_eq : Cert.Kernel4.defs₀ (F := F) = Cert.Kernel3.defs₀ (F := F) := by
  unfold Cert.Kernel4.defs₀ Cert.Kernel3.defs₀
  refine congrArg Defs.onTc (funext fun x => funext fun a => ?_)
  match x, a with
  | 0, (_, _) => rfl
  | ⟨_ + 1, h⟩, _ => exact absurd h (Nat.not_lt.2 (Nat.le_add_left _ _))

theorem defs_eq : Cert.Kernel4.defs (F := F) = Cert.Kernel3.defs (F := F) :=
  congrArg (Pipeline.defs (Cert.Kernel3.pcfgs (F := F))) bodies_eq

end Words

section Reals

variable {F : FTy → Type} [FloatOps F] [Cert.Kernel3Ideal.Facts] [Cert.Kernel4Ideal.Facts]

theorem ideal_bodies_eq : Cert.Kernel4Ideal.defs₀ (F := F) = Cert.Kernel3Ideal.defs₀ (F := F) := by
  unfold Cert.Kernel4Ideal.defs₀ Cert.Kernel3Ideal.defs₀
  refine congrArg Defs.onTc (funext fun x => funext fun a => ?_)
  match x, a with
  | 0, (_, _) => rfl
  | ⟨_ + 1, h⟩, _ => exact absurd h (Nat.not_lt.2 (Nat.le_add_left _ _))

theorem ideal_defs_eq : Cert.Kernel4Ideal.defs (F := F) = Cert.Kernel3Ideal.defs (F := F) :=
  congrArg (Pipeline.defs (Cert.Kernel3Ideal.pcfgs (F := F))) ideal_bodies_eq

end Reals

end Cert.Affinities

end
-- ==== Proof.AffinityMath.lean ====
/-
  A token's affinities to sixteen experts, and the split product that scores them: over the extended reals what a rounding
  leaves of a finite number is zero, so the split product is the product.  The norm of any token under a finite gain is
  finite, whatever the token: with an infinite entry the mean square is infinite and the norm is zero.
-/
module

public import proofs.«01_k».proof.Proof.MixMath

@[expose] public section

noncomputable section

namespace Cert.Mixing

open Idealize.ShloMosaic

/-- The largest score. -/
def top (l : Fin 16 → EReal) : EReal := Finset.fold max (Ideal.ofBits FTy.f32 4286578688#32) l Finset.univ

/-- The share of expert `e` in the exponentials of the scores. -/
def affinity (l : Fin 16 → EReal) (e : Fin 16) : EReal := Ideal.div (Ideal.exp (l e - top l)) (∑ x, Ideal.exp (l x - top l))

theorem max_top (l : Fin 16 → EReal) : max (Ideal.ofBits FTy.f32 4286578688#32) (top l) = top l :=
  max_eq_right ((Finset.le_fold_max _).2 (Or.inl le_rfl))

/-- A real number. -/
def Finite (x : EReal) : Prop := ∃ r : ℝ, x = r

theorem Finite.ne_top {x : EReal} (h : Finite x) : x ≠ ⊤ := by
  obtain ⟨r, rfl⟩ := h
  exact EReal.coe_ne_top r

theorem Finite.ne_bot {x : EReal} (h : Finite x) : x ≠ ⊥ := by
  obtain ⟨r, rfl⟩ := h
  exact EReal.coe_ne_bot r

theorem finite_of {x : EReal} (ht : x ≠ ⊤) (hb : x ≠ ⊥) : Finite x := ⟨x.toReal, (EReal.coe_toReal ht hb).symm⟩

theorem Finite.mul {x y : EReal} (hx : Finite x) (hy : Finite y) : Finite (x * y) := by
  obtain ⟨r, rfl⟩ := hx
  obtain ⟨s, rfl⟩ := hy
  exact ⟨r * s, (EReal.coe_mul r s).symm⟩

theorem Finite.sub_self {x : EReal} (h : Finite x) : x - x = 0 := EReal.sub_self h.ne_top h.ne_bot

theorem finite_of_abs {x : EReal} (h : max x (-x) < ⊤) : Finite x := by
  refine finite_of (lt_of_le_of_lt (le_max_left _ _) h).ne fun hb => ?_
  subst hb
  exact absurd h (by simp)

theorem infinity : Ideal.ofBits FTy.f32 0x7F800000#32 = ⊤ := by simp [Ideal.ofBits, Ideal.ieee]

theorem lanes_count : Ideal.ofBits FTy.f32 1149239296#32 = ((1024 : ℝ) : EReal) := by
  simp [Ideal.ofBits, Ideal.ieee, -EReal.coe_mul]; norm_num

theorem epsilon : ∃ r : ℝ, 0 < r ∧ Ideal.ofBits FTy.f32 897988541#32 = (r : EReal) := by
  refine ⟨_, ?_, by simp [Ideal.ofBits, Ideal.ieee, -EReal.coe_mul]; rfl⟩
  positivity

theorem square_nonneg (x : EReal) : 0 ≤ x * x := by
  induction x with
  | bot => simp
  | top => simp
  | coe r => exact_mod_cast mul_self_nonneg r

theorem square_top {x : EReal} (h : ¬Finite x) : x * x = ⊤ := by
  induction x with
  | bot => simp
  | top => simp
  | coe r => exact absurd ⟨r, rfl⟩ h

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A norm is finite where the gain is. -/
theorem normed_finite (v g : Fin 1024 → EReal) (hg : ∀ k, Finite (g k)) (k : Fin 1024) : Finite (normed (Ideal.ofBits FTy.f32 1149239296#32) v g k) := by
  obtain ⟨ε, hε, he⟩ := epsilon
  have h1024 : (1024 : ℝ) ≠ 0 := by norm_num
  unfold normed
  rw [lanes_count, he, Ideal.div_coe h1024]
  refine Finite.mul ?_ (hg k)
  by_cases hv : ∀ q, Finite (v q)
  · choose r hr using hv
    have hs : ∑ q, v q * v q = ((∑ q, r q * r q : ℝ) : EReal) := by
      rw [coe_sum]
      exact Finset.sum_congr rfl fun q _ => by rw [hr q, EReal.coe_mul]
    have hp : 0 < (∑ q, r q * r q) * (1 / 1024) + ε := by
      have : 0 ≤ ∑ q, r q * r q := Finset.sum_nonneg fun q _ => mul_self_nonneg _
      positivity
    rw [hs, ← EReal.coe_mul, ← EReal.coe_add, Ideal.rsqrt_coe, if_neg hp.not_gt, if_neg hp.ne']
    exact Finite.mul ⟨_, hr k⟩ ⟨_, rfl⟩
  · obtain ⟨q, hq⟩ := not_forall.1 hv
    have hs : ∑ q, v q * v q = ⊤ := by
      refine top_le_iff.1 ?_
      rw [← square_top hq]
      exact Finset.single_le_sum (f := fun q => v q * v q) (fun q _ => square_nonneg _) (Finset.mem_univ q)
    rw [hs, EReal.top_mul_coe_of_pos (by norm_num), EReal.top_add_coe, Ideal.rsqrt_top, mul_zero]
    exact ⟨0, rfl⟩

/-- The scores of a finite token under finite weights, from the weights and the token each split in two. -/
theorem split_score (h w : Fin 1024 → EReal) (hh : ∀ k, Finite (h k)) (hw : ∀ k, Finite (w k)) :
    ∑ k, w k * h k + ∑ k, (w k - w k) * h k + ∑ k, w k * (h k - h k) = ∑ k, h k * w k := by
  have e1 : ∑ k, (w k - w k) * h k = 0 := Finset.sum_eq_zero fun k _ => by rw [(hw k).sub_self, zero_mul]
  have e2 : ∑ k, w k * (h k - h k) = 0 := Finset.sum_eq_zero fun k _ => by rw [(hh k).sub_self, mul_zero]
  rw [e1, e2, add_zero, add_zero]
  exact Finset.sum_congr rfl fun k _ => mul_comm _ _

end Cert.Mixing

end
-- ==== Proof.AffinityBody.lean ====
/-
  The affinities one grid point of the mixing kernel writes, entry by entry over the extended reals.
-/
module

public import proofs.«01_k».proof.Proof.MixBody
public import proofs.«01_k».proof.Proof.AffinityMath

@[expose] public section

noncomputable section

namespace Cert.Kernel3Ideal.Mix

open Cert.Kernel3Ideal Cert.Kernel3Ideal.Gen Cert.Mixing
open Idealize.ShloMosaic Idealize.ShloMosaic.TcCoe Idealize.SL.Sem

/-- A block's scores, from the stacked weights `u`, their first half `u'` and the tokens. -/
def scores (h : FVec Ideal S1024x1024 .f32) (u : FVec Ideal S32x1024 .bf16) (u' : FVec Ideal S16x1024 .bf16) : FVec Ideal S16x1024 .f32 :=
  addf (addf (extractStridedSlice S16x1024 ![0, 0] (matmul dot_S32x1024_S1024x1024_S32x1024_1_1_0_0_n_n none (shapeCast S32x1024 u shapeCasts_S32x1024_S32x1024) (truncf .bf16 h bitsLt_bf16_f32) (constant S32x1024 .f32 0x00000000#32)) slices_S32x1024_o0_0_S16x1024)
    (extractStridedSlice S16x1024 ![16, 0] (matmul dot_S32x1024_S1024x1024_S32x1024_1_1_0_0_n_n none (shapeCast S32x1024 u shapeCasts_S32x1024_S32x1024) (truncf .bf16 h bitsLt_bf16_f32) (constant S32x1024 .f32 0x00000000#32)) slices_S32x1024_o16_0_S16x1024))
    (matmul dot_S16x1024_S1024x1024_S16x1024_1_1_0_0_n_n none (shapeCast S16x1024 u' shapeCasts_S16x1024_S16x1024) (truncf .bf16 (subf h (extf .f32 (truncf .bf16 h bitsLt_bf16_f32) bitsLt_bf16_f32)) bitsLt_bf16_f32) (constant S16x1024 .f32 0x00000000#32))

/-- Their shares, over the experts. -/
def shares (v : FVec Ideal S16x1024 .f32) : FVec Ideal S16x1024 .f32 :=
  have e : FVec Ideal S16x1024 .f32 := exp (subf v (broadcastTo S16x1024 (shapeCast S1x1024 (multiReduction .maximumf [0] S1024 v 0xFF800000#32 reduces_S16x1024_S1024 (.inl rfl) rfl) shapeCasts_S1024_S1x1024) broadcasts_S1x1024_S16x1024))
  divf e (broadcastTo S16x1024 (shapeCast S1x1024 (multiReduction .add [0] S1024 e 0x00000000#32 reduces_S16x1024_S1024 (.inl rfl) rfl) shapeCasts_S1024_S1x1024) broadcasts_S1x1024_S16x1024)

theorem pay21_eq (h : FVec Ideal S1024x1024 .f32) (u : FVec Ideal S32x1024 .bf16) (u' : FVec Ideal S16x1024 .bf16) : k0_pay21 h u u' = shares (scores h u u') := rfl

theorem scores_apply (h : FVec Ideal S1024x1024 .f32) (u : FVec Ideal S32x1024 .bf16) (u' : FVec Ideal S16x1024 .bf16) (e : Fin 16) (t : Fin 1024) :
    scores h u u' (ix2 e t) = ∑ k, u (ix2 (⟨e.val, by omega⟩ : Fin 32) k) * h (ix2 t k) + ∑ k, u (ix2 (⟨16 + e.val, by omega⟩ : Fin 32) k) * h (ix2 t k) +
      ∑ k, u' (ix2 e k) * (h (ix2 t k) - h (ix2 t k)) := by
  unfold scores
  pointwise

theorem shares_apply (v : FVec Ideal S16x1024 .f32) (e : Fin 16) (t : Fin 1024) : shares v (ix2 e t) = affinity (fun e => v (ix2 e t)) e := by
  unfold shares affinity top
  pointwise

theorem pay1_apply (v : FVec Ideal S16x1024 .f32) (q : Fin 1) (e : Fin 16) (t : Fin 1024) : k0_pay1 v (ix3 q e t) = v (ix2 e t) := by
  unfold k0_pay1
  pointwise

theorem ld_router (X : Vec Ideal S32x1024 .bf16) : View.ld (Val := Elt Ideal) (e' := .bf16) X (Rect.unit (s := S32x1024) ![0, 0] ![32, 1024] inb_S32x1024_S32x1024_0_0) = X :=
  ld_whole X _

/-- The first half of the stacked weights, as a load reads it. -/
abbrev half (x : FVec Ideal S32x1024 .bf16) : FVec Ideal S16x1024 .bf16 :=
  View.ld (Val := Elt Ideal) (e' := .bf16) x (Rect.unit (s := S32x1024) ![0, 0] ![16, 1024] inb_S32x1024_S16x1024_0_0)

theorem half_apply (x : FVec Ideal S32x1024 .bf16) (e : Fin 16) (k : Fin 1024) : half x (ix2 e k) = x (ix2 ⟨e.val, by omega⟩ k) := by
  refine congrArg x (funext fun d => Fin.ext ?_)
  fin_cases d
  · show 0 + 1 * e.val = e.val
    omega
  · show 0 + 1 * k.val = k.val
    omega

section Scored

variable (x0 : FVec Ideal S1024x1024 .f32) (x1 x2 : FVec Ideal S4x1024x128 .f32) (x3 x4 : FVec Ideal S1x512 .f32) (xs : FVec Ideal S1024x1024 .bf16)

/-- The affinities of row `r`'s token. -/
def scored (x6 : FVec Ideal S1x1024 .f32) (x7 : FVec Ideal S32x1024 .bf16) (r : Fin 1024) : Fin 16 → EReal :=
  affinity fun e => ∑ k, x7 (ix2 (⟨e.val, by omega⟩ : Fin 32) k) * renorm x0 x1 x2 x3 x4 xs x6 r k + ∑ k, x7 (ix2 (⟨16 + e.val, by omega⟩ : Fin 32) k) * renorm x0 x1 x2 x3 x4 xs x6 r k +
    ∑ k, x7 (ix2 (⟨e.val, by omega⟩ : Fin 32) k) * (renorm x0 x1 x2 x3 x4 xs x6 r k - renorm x0 x1 x2 x3 x4 xs x6 r k)

theorem scored_apply {κ : Kind} {sp : Space} (v : View sig κ sp S1024x1024 .f32) (x6 : FVec Ideal S1x1024 .f32) (x7 : FVec Ideal S32x1024 .bf16) (q : Fin 1) (e : Fin 16) (r : Fin 1024) :
    k0_pay1 (k0_pay21 (reread x0 x1 x2 x3 x4 xs v x6) x7 (half x7)) (ix3 q e r) = scored x0 x1 x2 x3 x4 xs x6 x7 r e := by
  rw [pay1_apply, pay21_eq, shares_apply]
  unfold scored
  refine congrArg (fun l => affinity l e) (funext fun e => ?_)
  rw [scores_apply]
  simp only [reread_apply]
  exact congrArg (fun z : EReal => _ + z) (Finset.sum_congr rfl fun k _ => congrArg (fun z : EReal => z * (renorm x0 x1 x2 x3 x4 xs x6 r k - renorm x0 x1 x2 x3 x4 xs x6 r k)) (half_apply x7 e k))

/-- The one store of the affinities. -/
theorem storedShares_eq {κ : Kind} {sp : Space} (v : View sig κ sp S1024x1024 .f32) (x6 : FVec Ideal S1x1024 .f32) (x7 : FVec Ideal S32x1024 .bf16) :
    ∀ p ∈ ([⟨Rect.unit (s := S1x16x1024) ![0, 0, 0] S1x16x1024.size inb_S1x16x1024_S1x16x1024_0_0_0, k0_pay1 (k0_pay21 (reread x0 x1 x2 x3 x4 xs v x6) x7 (half x7))⟩] : List (View.Piece (Elt Ideal) S1x16x1024 .f32)),
      ∀ x : p.1.shape.Idx, p.2 x = (fun y : S1x16x1024.Idx => scored x0 x1 x2 x3 x4 xs x6 x7 (y 2) (y 1)) (p.1.emb x) :=
  List.forall_mem_cons.2 ⟨fun (x : S1x16x1024.Idx) => by
    obtain ⟨q, e, r, rfl⟩ : ∃ (q : Fin 1) (e : Fin 16) (r : Fin 1024), x = ix3 q e r := ⟨x 0, x 1, x 2, eq_ix3 x⟩
    refine (scored_apply x0 x1 x2 x3 x4 xs v x6 x7 q e r).trans ?_
    refine congrArg₂ (scored x0 x1 x2 x3 x4 xs x6 x7) (Fin.ext ?_) (Fin.ext ?_)
    · show r.val = 0 + 1 * r.val
      omega
    · show e.val = 0 + 1 * e.val
      omega, fun _ hx => absurd hx List.not_mem_nil⟩

end Scored

theorem out10_A (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : cond0_0 i)
    (x0 : Vec Ideal S1024x1024 .f32) (x1 : Vec Ideal S4x1024x128 .f32) (x2 : Vec Ideal S4x1024x128 .f32) (x3 : Vec Ideal S1x512 .f32) (x4 : Vec Ideal S1x512 .f32) (x5 : Vec Ideal S1024x1024 .f32) (x6 : Vec Ideal S1x1024 .f32) (x7 : Vec Ideal S32x1024 .bf16) (y : S1x16x1024.Idx) :
    out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 y = scored x0 x1 x2 x3 x4 (k0_pay2 x5) x6 x7 (y 2) (y 1) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7)]
  refine View.canon_apply_of_pieces (fun y : S1x16x1024.Idx => scored x0 x1 x2 x3 x4 (k0_pay2 x5) x6 x7 (y 2) (y 1)) _ ?_ y (cover0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg12.read_unread, ld_gain, ld_gains, ld_square, ld_router, load_stored]
  exact storedShares_eq x0 x1 x2 x3 x4 (k0_pay2 x5) _ x6 x7

theorem out10_B (c : Dev nD) (i : grid0.Coords) (arg1 : Memref sig .tc .vmem S1024x1024 .f32) (harg1 : arg1.IsWhole) (arg2 : Memref sig .tc .vmem S4x1024x128 .f32) (harg2 : arg2.IsWhole) (arg3 : Memref sig .tc .vmem S4x1024x128 .f32) (harg3 : arg3.IsWhole) (arg4 : Memref sig .tc .vmem S1x512 .f32) (harg4 : arg4.IsWhole) (arg5 : Memref sig .tc .vmem S1x512 .f32) (harg5 : arg5.IsWhole) (arg6 : Memref sig .tc .vmem S1024x1024 .f32) (harg6 : arg6.IsWhole) (arg7 : Memref sig .tc .vmem S1x1024 .f32) (harg7 : arg7.IsWhole) (arg8 : Memref sig .tc .vmem S32x1024 .bf16) (harg8 : arg8.IsWhole) (arg9 : Memref sig .tc .vmem S1024x1024 .f32) (harg9 : arg9.IsWhole) (arg10 : Memref sig .tc .vmem S8192x128 .f32) (harg10 : arg10.IsWhole) (arg11 : Memref sig .tc .vmem S1x16x1024 .f32) (harg11 : arg11.IsWhole) (arg12 : Memref sig .tc .vmem S1024x1024 .bf16) (harg12 : arg12.IsWhole) (hc0 : ¬cond0_0 i)
    (x0 : Vec Ideal S1024x1024 .f32) (x1 : Vec Ideal S4x1024x128 .f32) (x2 : Vec Ideal S4x1024x128 .f32) (x3 : Vec Ideal S1x512 .f32) (x4 : Vec Ideal S1x512 .f32) (x5 : Vec Ideal S1024x1024 .f32) (x6 : Vec Ideal S1x1024 .f32) (x7 : Vec Ideal S32x1024 .bf16) (xs0 : Vec Ideal S1024x1024 .bf16) (y : S1x16x1024.Idx) :
    out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y = scored x0 x1 x2 x3 x4 xs0 x6 x7 (y 2) (y 1) := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0)]
  refine View.canon_apply_of_pieces (fun y : S1x16x1024.Idx => scored x0 x1 x2 x3 x4 xs0 x6 x7 (y 2) (y 1)) _ ?_ y (cover0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xs0 y)
  unfold kernelRun0_B
  dsimp only
  sl_unfold_words
  simp only [View.readAt_eq_ld, harg1.read_unread, harg2.read_unread, harg3.read_unread, harg4.read_unread, harg5.read_unread, harg6.read_unread, harg7.read_unread, harg8.read_unread, harg12.read_unread, ld_gain, ld_gains, ld_square, ld_router, load_stored]
  exact storedShares_eq x0 x1 x2 x3 x4 xs0 _ x6 x7

end Cert.Kernel3Ideal.Mix

end
-- ==== Proof.AffinityReference.lean ====
/-
  The reference of the affinities, read entry by entry over the extended reals.
-/
module

public import proofs.«01_k».proof.Proof.Gen.Reference4Ideal.Run
public import proofs.«01_k».proof.Proof.AffinityMath
public import proofs.«01_k».proof.Proof.MixReference
public import Idealize.ShloMosaic.Lib.Pointwise

@[expose] public section

noncomputable section

namespace Cert.Reference4Ideal.Affinities

open Cert.Reference4Ideal Cert.Reference4Ideal.Gen Cert.Mixing Cert.Reference3Ideal.Mixing
open Idealize.ShloMosaic Idealize.ShloMosaic.TcCoe Idealize.SL.Sem

/-- Each token's scores. -/
def logits (h : FVec Ideal S4x4096x1024 .f32) (w : FVec Ideal S1024x16 .f32) : FVec Ideal S4x4096x16 .f32 :=
  Host.dotGeneral dot_S4x4096x1024_S1024x16_S4x4096x16_2_0_01_1_n_n none h w

/-- Each token's largest score. -/
def largest (l : FVec Ideal S4x4096x16 .f32) : FVec Ideal S4x4096 .f32 :=
  maximumf (broadcastInDim S4x4096 ![] bcast_S_S4x4096 (constant S_ .f32 0xFF800000#32)) (Host.reduce FloatOps.maximumf l (constant S_ .f32 0xFF800000#32) reducesTo_S4x4096x16_S4x4096_d2 h_S_)

/-- The exponentials of the scores less the largest. -/
def powers (l : FVec Ideal S4x4096x16 .f32) : FVec Ideal S4x4096x16 .f32 :=
  Host.exp (subf l (broadcastInDim S4x4096x16 ![0, 1, 2] bcast_S4x4096x1_S4x4096x16_0_1_2 (broadcastInDim S4x4096x1 ![0, 1] bcast_S4x4096_S4x4096x1_0_1 (largest l))))

/-- The affinities, by expert. -/
def shares (l : FVec Ideal S4x4096x16 .f32) : FVec Ideal S4x16x4096 .f32 :=
  transpose S4x16x4096 [0, 2, 1] (Host.divf (powers l) (broadcastInDim S4x4096x16 ![0, 1, 2] bcast_S4x4096x1_S4x4096x16_0_1_2 (broadcastInDim S4x4096x1 ![0, 1] bcast_S4x4096_S4x4096x1_0_1 (Host.reduceAdd (powers l) (constant S_ .f32 0x00000000#32) reducesTo_S4x4096x16_S4x4096_d2 h_S_)))) transposes_S4x4096x16_S4x16x4096_0_2_1

theorem logits_apply (h : FVec Ideal S4x4096x1024 .f32) (w : FVec Ideal S1024x16 .f32) (b : Fin 4) (s : Fin 4096) (e : Fin 16) :
    logits h w (ix3 b s e) = ∑ k : Fin 1024, (h (ix3 b s k) : EReal) * w (ix2 k e) := by
  unfold logits
  pointwise

theorem largest_apply (l : FVec Ideal S4x4096x16 .f32) (b : Fin 4) (s : Fin 4096) : largest l (ix2 b s) = top fun e => l (ix3 b s e) := by
  rw [← max_top]
  unfold largest top
  pointwise

theorem shares_apply (l : FVec Ideal S4x4096x16 .f32) (b : Fin 4) (e : Fin 16) (s : Fin 4096) : shares l (ix3 b e s) = affinity (fun e => l (ix3 b s e)) e := by
  unfold shares powers affinity
  rw [← largest_apply]
  pointwise

theorem affinity_out (x : FVec Ideal S16384x1024 .f32) (a b : FVec Ideal S4x16384x128 .f32) (ga gb : FVec Ideal S512 .f32) (w : FVec Ideal S1024x1024 .f32) (g : FVec Ideal S1024 .f32) (wr : FVec Ideal S1024x16 .f32)
    (i : Fin 4) (e : Fin 16) (s : Fin 4096) :
    shares (logits (tokenNorm (mixedTokens x a b ga gb w) g) wr) (ix3 i e s) =
      affinity (fun e => ∑ k, normed (Ideal.ofBits FTy.f32 1149239296#32) (tokenAt x a b ga gb w ⟨i.val * 4096 + s.val, by omega⟩) (fun n => g (ix1 n)) k * wr (ix2 k e)) e := by
  rw [shares_apply]
  refine congrArg (fun l => affinity l e) (funext fun e => ?_)
  rw [logits_apply]
  refine Finset.sum_congr rfl fun k _ => congrArg (fun v : EReal => v * wr (ix2 k e)) ?_
  rw [tokenNorm_apply]
  exact congrArg (fun v => normed (Ideal.ofBits FTy.f32 1149239296#32) v (fun n => g (ix1 n)) k) (funext fun n => mixedTokens_apply x a b ga gb w i s n)

/-! ## The run -/

section Run

variable [Facts]
variable (m : (ℓ : Loc nD τ sig) → Buf (Elt Ideal) ℓ) (c : Dev nD)

/-- The affinities the program computes from its arguments. -/
def ofArgs : FVec Ideal S4x16x4096 .f32 :=
  shares (logits (tokenNorm (mixedTokens (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))) (m ((c.tc : Thread nD τ).loc main_arg6))) (m ((c.tc : Thread nD τ).loc main_arg7)))

theorem affinity_eq : Cert.Reference4Ideal.Value.res_main_v60 m c = ofArgs m c := rfl

end Run

end Cert.Reference4Ideal.Affinities

end
-- ==== Proof.AffinityValue.lean ====
/-
  The affinities the mixing kernel leaves, against the reference.  The router's weights reach the call stacked: rounded,
  over what the rounding left.  Over the extended reals the second half of a finite weight is zero, and so is what the
  rounding leaves of a finite token; the block that grid point `t` writes is tokens `1024 t` to `1024 t + 1023`, a quarter
  of a sequence.
-/
module

public import proofs.«01_k».proof.Proof.AffinityBody
public import proofs.«01_k».proof.Proof.AffinityReference
public import proofs.«01_k».proof.Proof.MixValue

@[expose] public section

noncomputable section

namespace Cert.Kernel3Ideal.Mix

open Cert.Kernel3Ideal Cert.Kernel3Ideal.Gen Cert.Mixing
open Idealize.ShloMosaic Idealize.ShloMosaic.TcCoe Idealize.SL.Sem

/-- The router's weights stacked: rounded, over what the rounding left. -/
def stacked (w : FVec Ideal S1024x16 .f32) : FVec Ideal S32x1024 .bf16 :=
  have hi : FVec Ideal S16x1024 .bf16 := truncf .bf16 (transpose S16x1024 [1, 0] w transposes_S1024x16_S16x1024_1_0) bitsLt_bf16_f32
  concatenate S32x1024 0 [⟨S16x1024, hi⟩, ⟨S16x1024, truncf .bf16 (subf (transpose S16x1024 [1, 0] w transposes_S1024x16_S16x1024_1_0) (extf .f32 hi bitsLt_bf16_f32)) bitsLt_bf16_f32⟩] concatenates_S16x1024_S16x1024_S32x1024_d0

theorem stacked_first (w : FVec Ideal S1024x16 .f32) (e : Fin 16) (k : Fin 1024) : stacked w (ix2 (⟨e.val, by omega⟩ : Fin 32) k) = w (ix2 k e) := by
  unfold stacked
  pointwise

theorem stacked_second (w : FVec Ideal S1024x16 .f32) (e : Fin 16) (k : Fin 1024) : stacked w (ix2 (⟨16 + e.val, by omega⟩ : Fin 32) k) = (w (ix2 k e) : EReal) - w (ix2 k e) := by
  unfold stacked
  pointwise

section Values

variable [Facts]
variable (m : (ℓ : Loc nD τ sig) → Buf (Elt Ideal) ℓ) (c : Dev nD)

theorem V_router : V m c main_v6 = stacked (m ((c : Thread nD τ).loc main_arg7)) := by
  unfold V
  simp only [hostOps0]
  after_results_simp
  rfl

theorem idx_router : ∀ t : Fin cfg0.N, win0_7.index t = ![0, 0] ∧ win0_10.index t = ![t.val / 4, 0, t.val % 4] :=
  (by decide +kernel : ∀ t : Fin grid0.N, win0_7.index t = ![0, 0] ∧ win0_10.index t = ![t.val / 4, 0, t.val % 4])

theorem iblk7 (t : Fin cfg0.N) (j : Fin 32) (k : Fin 1024) : (iblk m c 7 t : FVec Ideal S32x1024 .bf16) (ix2 j k) = stacked (m ((c : Thread nD τ).loc main_arg7)) (ix2 j k) := by
  have e := idx_router t
  rw [← V_router m c]
  blk_ext [iblk, e.1]

theorem point10 (t : Fin cfg0.N) (y : S1x16x1024.Idx) :
    (outsAt0 m c t.val t.isLt).2.2.1 y = scored (iblk m c 0 t) (iblk m c 1 t) (iblk m c 2 t) (iblk m c 3 t) (iblk m c 4 t) (k0_pay2 (iblk m c 5 t)) (iblk m c 6 t) (iblk m c 7 t) (y 2) (y 1) := by
  by_cases h0 : t.val % 16 = 0
  · rw [outsAt0_A m c t h0]
    dsimp only
    exact out10_A _ _ _ _ _ _ _ _ _ _ _ _ _ _ _ _ _ _ _ _ _ _ _ _ _ _ _ _ _ _ _ _ _ _ _ y
  · rw [outsAt0_B m c t h0, scratch m c (t.val - 1), iblk5_eq m c ⟨t.val - 1, _⟩ t]
    dsimp only
    exact out10_B _ _ _ _ _ _ _ _ _ _ _ _ _ _ _ _ _ _ _ _ _ _ _ _ _ _ _ _ _ _ _ _ _ _ _ _ y

/-- A block's affinities are the array's. -/
theorem scored_eq (hg : ∀ n : Fin 1024, Finite ((m ((c : Thread nD τ).loc main_arg6)) (ix1 n))) (hw : ∀ (k : Fin 1024) (e : Fin 16), Finite ((m ((c : Thread nD τ).loc main_arg7)) (ix2 k e))) (t : Fin cfg0.N) (r : Fin 1024) :
    scored (iblk m c 0 t) (iblk m c 1 t) (iblk m c 2 t) (iblk m c 3 t) (iblk m c 4 t) (k0_pay2 (iblk m c 5 t)) (iblk m c 6 t) (iblk m c 7 t) r =
      affinity fun e => ∑ k, normed (Ideal.ofBits FTy.f32 1149239296#32) (Cert.Reference3Ideal.Mixing.tokenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) ⟨1024 * t.val + r.val, by have := points t; omega⟩) (fun n => (m ((c : Thread nD τ).loc main_arg6)) (ix1 n)) k * (m ((c : Thread nD τ).loc main_arg7)) (ix2 k e) := by
  unfold scored renorm
  rw [token_eq, funext fun n => iblk6 m c t 0 n]
  refine congrArg affinity (funext fun e => ?_)
  simp only [iblk7, stacked_first, stacked_second]
  exact split_score _ (fun k => (m ((c : Thread nD τ).loc main_arg7)) (ix2 k e)) (normed_finite _ _ hg) fun k => hw k e

theorem arr10 (hg : ∀ n : Fin 1024, Finite ((m ((c : Thread nD τ).loc main_arg6)) (ix1 n))) (hw : ∀ (k : Fin 1024) (e : Fin 16), Finite ((m ((c : Thread nD τ).loc main_arg7)) (ix2 k e))) :
    (dats m 0 c).arrAt 10 cfg0.N = Cert.Reference4Ideal.Affinities.shares (Cert.Reference4Ideal.Affinities.logits (Cert.Reference3Ideal.Mixing.tokenNorm (Cert.Reference3Ideal.Mixing.mixedTokens (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7))) := by
  refine (dats m 0 c).arrAt_eq_of_covers 10 _ (by decide +kernel) fun t hf y => ?_
  blk_simp
  rw [after0_10]
  obtain ⟨q, e, r, rfl⟩ : ∃ (q : Fin 1) (e : Fin 16) (r : Fin 1024), y = ix3 q e r := ⟨y 0, y 1, y 2, eq_ix3 y⟩
  have ht := points t
  have hi := idx_router t
  have hy : (win0_10.blk t).view.emb (ix3 q e r) = ix3 ⟨t.val / 4, by omega⟩ e ⟨1024 * (t.val % 4) + r.val, by omega⟩ := by
    blk_ext [hi.2]
  rw [hy, Cert.Reference4Ideal.Affinities.affinity_out]
  refine (point10 m c t (ix3 q e r)).trans ((congrFun (scored_eq m c hg hw t r) e).trans ?_)
  have e1 : 1024 * t.val + r.val = t.val / 4 * 4096 + (1024 * (t.val % 4) + r.val) := by omega
  exact congrArg (fun t : Fin 16384 => affinity (fun e => ∑ k, normed (Ideal.ofBits FTy.f32 1149239296#32) (Cert.Reference3Ideal.Mixing.tokenAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) t) (fun n => (m ((c : Thread nD τ).loc main_arg6)) (ix1 n)) k * (m ((c : Thread nD τ).loc main_arg7)) (ix2 k e)) e) (Fin.ext e1)

end Values

/-! ## The run -/

section Run

variable [Facts]
variable (m : (ℓ : Loc nD τ sig) → Buf (Elt Ideal) ℓ) (ρ : Dev nD → PrngReg)

theorem run_affinities (hg : ∀ (c : Dev nD) (n : Fin 1024), Finite ((m ((c : Thread nD τ).loc main_arg6)) (ix1 n))) (hw : ∀ (c : Dev nD) (k : Fin 1024) (e : Fin 16), Finite ((m ((c : Thread nD τ).loc main_arg7)) (ix2 k e))) :
    θ_run defs (onTc (τ := τ) (main (F := Ideal))) ⟨m, fun _ => 0, ρ⟩ fun r => ∀ c : Dev nD,
      r.2.mem ((c.tc : Thread nD τ).loc main_v10_2) = Cert.Reference4Ideal.Affinities.shares (Cert.Reference4Ideal.Affinities.logits (Cert.Reference3Ideal.Mixing.tokenNorm (Cert.Reference3Ideal.Mixing.mixedTokens (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (m ((c : Thread nD τ).loc main_arg6))) (m ((c : Thread nD τ).loc main_arg7)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h.1 c).1 10).trans (arr10 m c (hg c) (hw c)), h.2 c⟩) (θ_run_and (run_main m ρ) (unchanged m ρ))

end Run

end Cert.Kernel3Ideal.Mix

end
-- ==== Proof.FinitePre.lean ====
/-
  What the precondition on the router says: the last gain and the router's weights are finite.
-/
module

public import proofs.«01_k».proof.Proof.AffinityMath
public import proofs.«01_k».proof.Proof.Gen.Pre_finite_router
public import Idealize.ShloMosaic.Lib.ReduceAll

@[expose] public section

noncomputable section

namespace Cert.Mixing

open Idealize.ShloMosaic Cert.Pre_finite_router

theorem finite_of_cmp {x : EReal} (h : Ideal.cmp .olt (max x (-x)) (Ideal.ofBits .f32 0x7F800000#32) = 1#1) : Finite x := by
  rw [infinity] at h
  refine finite_of_abs ?_
  by_contra hn
  have h' : BitVec.ofBool (decide (max x (-x) < ⊤)) = 1#1 := h
  rw [decide_eq_false hn] at h'
  exact absurd h' (by decide)

theorem pre_finite [Facts] (x : FVec Ideal S16384x1024 .f32) (a b : FVec Ideal S4x16384x128 .f32) (ga gb : FVec Ideal S512 .f32) (w : FVec Ideal S1024x1024 .f32) (g : FVec Ideal S1024 .f32)
    (wr : FVec Ideal S1024x16 .f32) (h : fn (F := Ideal) x a b ga gb w g wr = fun _ => 1#1) : (∀ y : S1024.Idx, Finite (g y)) ∧ ∀ y : S1024x16.Idx, Finite (wr y) := by
  have h0 := congrFun h (Shape.Idx.first Facts.h_S_)
  dsimp only [fn] at h0
  obtain ⟨h1, h2⟩ := IntOp.andi_eq_one.1 h0
  exact ⟨fun y => finite_of_cmp (Host.reduce_andi_all _ _ _ _ _ h1 y), fun y => finite_of_cmp (Host.reduce_andi_all _ _ _ _ _ h2 y)⟩

end Cert.Mixing

end
-- ==== Proof.lean ====
/-
  The claims about the experts' kernel, the projections' kernel, the mixing kernel and its affinities, each from the
  modules beside it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_tile_rows
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Launch
public import proofs.«01_k».proof.Proof.Gen.Kernel3.Points
public import proofs.«01_k».proof.Proof.Gen.Kernel3.Skeleton
public import proofs.«01_k».proof.Proof.Gen.Kernel3Ideal
public import proofs.«01_k».proof.Proof.Gen.Kernel3Ideal.Launch
public import proofs.«01_k».proof.Proof.Gen.Kernel3Ideal.Points
public import proofs.«01_k».proof.Proof.Gen.Kernel3Ideal.Skeleton
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Reference4Ideal
public import proofs.«01_k».proof.Proof.Gen.Reference4Ideal.Run
public import proofs.«01_k».proof.Proof.Gen.Pre_finite_router
public import proofs.«01_k».proof.Proof.Pre
public import proofs.«01_k».proof.Proof.RefValues
public import proofs.«01_k».proof.Proof.ProjValue
public import proofs.«01_k».proof.Proof.MixWordsFrame
public import proofs.«01_k».proof.Proof.MixValue
public import proofs.«01_k».proof.Proof.SameCall
public import proofs.«01_k».proof.Proof.AffinityValue
public import proofs.«01_k».proof.Proof.FinitePre

@[expose] public section

noncomputable section

namespace Cert.Proof

open Idealize.ShloMosaic Idealize.SL.Sem Cert.Experts

/-- The kernel over the words' arithmetic: it ends, with its arguments as they were and every counter at zero. -/
theorem frame_kernel [Cert.Kernel.Facts] [Cert.KernelIdeal.Facts] [Cert.Pre_tile_rows.Facts] : Cert.quiescent_Kernel :=
  fun m g h => frame_transfer (F := Bits).mp frame_ideal m g fun c => pre_rows _ _ _ _ _ (h c)

/-- The idealized kernel, likewise. -/
theorem frame_kernel_ideal [Cert.KernelIdeal.Facts] [Cert.Pre_tile_rows.Facts] : Cert.quiescent_KernelIdeal :=
  fun m g h => frame_ideal m g fun c => pre_rows _ _ _ _ _ (h c)

/-- The reference runs host operations only; none writes an argument, and it has no counter. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The idealized kernel and the reference end with one result. -/
theorem value [Cert.Kernel.Facts] [Cert.KernelIdeal.Facts] [Cert.Pre_tile_rows.Facts] :
    Cert.algebraic_KernelIdeal_ReferenceIdeal (hReferenceIdeal := Cert.ReferenceIdeal.Gen.facts) := fun m g m' g' hp ha =>
  have hr := fun c => pre_rows _ _ _ _ _ (hp c)
  have hok := Cert.KernelIdeal.Experts.words_ok m hr
  ⟨fun c => Cert.KernelIdeal.Experts.result m hok c,
    (θ_run _ _ _).mono (fun _ h c => h.1 c) (Cert.KernelIdeal.Experts.run m g hok),
    (θ_run _ _ _).mono (fun r h c => ⟨(h c).1.trans (by
      obtain ⟨h0, h1, h2, h3, h4⟩ := ha c
      rw [h0, h1, h2, h3, h4]
      exact (Cert.ReferenceIdeal.Value.out_eq m c (hr c)).trans (Cert.KernelIdeal.Experts.result_eq m c hok).symm), (h c).2⟩) (Cert.ReferenceIdeal.Value.run_out m' g')⟩

/-- The projections' kernel over the words' arithmetic ends, with its arguments as they were and every counter at zero. -/
theorem frame_projections : Cert.quiescent_Kernel2 (hKernel2 := Cert.Kernel2.Gen.facts) := fun m g _ => Cert.Kernel2.Gen.frame m g

/-- The idealized projections' kernel, likewise. -/
theorem frame_projections_ideal : Cert.quiescent_Kernel2Ideal (hKernel2Ideal := Cert.Kernel2Ideal.Gen.facts) := fun m g _ =>
  Cert.Kernel2Ideal.Gen.frame m g

/-- The projections' reference runs host operations only. -/
theorem frame_projections_reference : Cert.quiescent_Reference2Ideal (hReference2Ideal := Cert.Reference2Ideal.Gen.facts) := fun m g _ =>
  (θ_run _ _ _).mono (fun r h => ⟨fun c => (h c).2.2.2.2.2.2, sem_eq_zero_of_no_sems (by decide) r.2⟩) (Cert.Reference2Ideal.Value.run m g)

/-- The named constant is the value its name is given. -/
theorem preserves_projections : Cert.preserves_Kernel2_Kernel2Ideal :=
  IdealRules.named_const.statement Cert.Kernel2Ideal.κ "q_scale" .f32 0x3E38AA3B#32 (((8 * Real.log 2)⁻¹ : ℝ) : EReal) rfl

/-- The idealized projections' kernel and its reference end with the same six results. -/
theorem value_projections [Cert.Kernel2Ideal.Facts] :
    Cert.algebraic_Kernel2Ideal_Reference2Ideal (hReference2Ideal := Cert.Reference2Ideal.Gen.facts) := fun m g m' g' _ ha =>
  ⟨_, _, _, _, _, _, Cert.Kernel2Ideal.Projections.run m g,
    (θ_run _ _ _).mono (fun r h c => by
      obtain ⟨h0, h1, h2⟩ := ha c
      have e := h c
      unfold Cert.Reference2Ideal.Projections.X Cert.Reference2Ideal.Projections.G Cert.Reference2Ideal.Projections.W at e
      refine ⟨e.1.trans ?_, e.2.1.trans ?_, e.2.2.1.trans ?_, e.2.2.2.1.trans ?_, e.2.2.2.2.1.trans ?_, e.2.2.2.2.2.1.trans ?_, e.2.2.2.2.2.2⟩
      all_goals rw [h0, h1, h2]) (Cert.Reference2Ideal.Projections.run m' g')⟩

/-- The mixing kernel runs without fault and keeps its arguments. -/
theorem frame_mixing : Cert.quiescent_Kernel3 (hKernel3 := Cert.Kernel3.Gen.facts) := fun m g _ => Cert.Kernel3.Mix.frame m g

/-- The idealized mixing kernel, likewise. -/
theorem frame_mixing_ideal : Cert.quiescent_Kernel3Ideal (hKernel3Ideal := Cert.Kernel3Ideal.Gen.facts) := fun m g _ =>
  Cert.Kernel3Ideal.Mix.frame m g

/-- The mixing reference runs host operations only. -/
theorem frame_mixing_reference : Cert.quiescent_Reference3Ideal (hReference3Ideal := Cert.Reference3Ideal.Gen.facts) := fun m g _ =>
  (θ_run _ _ _).mono (fun r h => ⟨fun c => (h c).2.2, sem_eq_zero_of_no_sems (by decide) r.2⟩) (Cert.Reference3Ideal.Value.run m g)

/-- The idealized mixing kernel and its reference end with the same two results. -/
theorem value_mixing [Cert.Kernel3Ideal.Facts] :
    Cert.algebraic_Kernel3Ideal_Reference3Ideal (hReference3Ideal := Cert.Reference3Ideal.Gen.facts) := fun m g m' g' _ ha =>
  ⟨_, _, Cert.Kernel3Ideal.Mix.run m g,
    (θ_run _ _ _).mono (fun r h c => by
      obtain ⟨h0, h1, h2, h3, h4, h5, h6, _⟩ := ha c
      have e := h c
      unfold Cert.Reference3Ideal.Mixing.ofArgs at e
      refine ⟨e.1.trans ?_, e.2.1.trans ?_, e.2.2⟩
      · rw [h0, h1, h2, h3, h4, h5]
      · rw [h0, h1, h2, h3, h4, h5, h6]) (Cert.Reference3Ideal.Mixing.run m' g')⟩

/-- The program of the affinities is the mixing kernel's: it runs without fault and keeps its arguments. -/
theorem frame_affinities : Cert.quiescent_Kernel4 (hKernel4 := Cert.Kernel4.Gen.facts) := fun m g _ => by
  rw [Cert.Affinities.defs_eq]
  exact Cert.Kernel3.Mix.frame m g

/-- The idealized program of the affinities, likewise. -/
theorem frame_affinities_ideal : Cert.quiescent_Kernel4Ideal (hKernel4Ideal := Cert.Kernel4Ideal.Gen.facts) := fun m g _ => by
  rw [Cert.Affinities.ideal_defs_eq]
  exact Cert.Kernel3Ideal.Mix.frame m g

/-- The affinities' reference runs host operations only. -/
theorem frame_affinities_reference : Cert.quiescent_Reference4Ideal (hReference4Ideal := Cert.Reference4Ideal.Gen.facts) := fun m g _ =>
  (θ_run _ _ _).mono (fun r h => ⟨fun c => (h c).2, sem_eq_zero_of_no_sems (by decide) r.2⟩) (Cert.Reference4Ideal.Value.run m g)

/-- Where the last gain and the router's weights are finite, the idealized mixing kernel's affinities are the reference's. -/
theorem value_affinities [Cert.Kernel3Ideal.Facts] [Cert.Pre_finite_router.Facts] :
    Cert.algebraic_Kernel4Ideal_Reference4Ideal_pre_finite_router (hKernel4Ideal := Cert.Kernel4Ideal.Gen.facts) (hReference4Ideal := Cert.Reference4Ideal.Gen.facts) := fun m g m' g' hp ha =>
  have hf := fun c => Cert.Mixing.pre_finite _ _ _ _ _ _ _ _ (hp c)
  ⟨fun c => Cert.Reference4Ideal.Affinities.ofArgs m' c, by
    rw [Cert.Affinities.ideal_defs_eq]
    refine (θ_run _ _ _).mono (fun r h c => ⟨(h c).1.trans ?_, (h c).2⟩) (Cert.Kernel3Ideal.Mix.run_affinities m g (fun c n => (hf c).1 _) fun c k e => (hf c).2 _)
    obtain ⟨h0, h1, h2, h3, h4, h5, h6, h7⟩ := ha c
    unfold Cert.Reference4Ideal.Affinities.ofArgs
    dsimp only
    rw [h0, h1, h2, h3, h4, h5, h6, h7],
    (θ_run _ _ _).mono (fun _ h c => ⟨(h c).1.trans (Cert.Reference4Ideal.Affinities.affinity_eq m' c), (h c).2⟩) (Cert.Reference4Ideal.Value.run m' g')⟩

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts, Cert.Pre_tile_rows.Gen.facts, Cert.Pre_finite_router.Gen.facts,
    frame_kernel, frame_kernel_ideal, frame_reference, fun m g _ => frame_reference m g trivial,
    frame_projections, frame_projections_ideal, frame_projections_reference,
    frame_mixing, frame_mixing_ideal, frame_mixing_reference,
    frame_affinities, frame_affinities_ideal, fun m g _ => frame_affinities_ideal m g trivial, frame_affinities_reference, fun m g _ => frame_affinities_reference m g trivial,
    trivial, value, preserves_projections, value_projections, trivial, value_mixing, trivial, value_affinities⟩

end Cert.Proof

end
